-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_Reference (m : (ℓ : Loc Cert.Reference.nD Cert.Reference.τ Cert.Reference.sig) → Buf (Elt Bits) ℓ) : Prop :=
  True

def Pre_Reference_pre [hPre_pre : Cert.Pre_pre.Facts] (m : (ℓ : Loc Cert.Reference.nD Cert.Reference.τ Cert.Reference.sig) → Buf (Elt Bits) ℓ) : Prop :=
  ∀ c : Dev Cert.Reference.nD,
    (Cert.Pre_pre.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4)) (m ((c.tc : Thread Cert.Reference.nD Cert.Reference.τ).loc Cert.Reference.main_arg5))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def quiescent_Reference_pre_pre [hReference : Cert.Reference.Facts] [hPre_pre : Cert.Pre_pre.Facts] : Prop :=
  ∀ (m : (ℓ : Loc Cert.Reference.nD Cert.Reference.τ Cert.Reference.sig) → Buf (Elt Bits) ℓ) (g : Dev Cert.Reference.nD → PrngReg), Pre_Reference_pre m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def bitexact_Kernel_Reference [hKernel : Cert.Kernel.Facts] [hReference : Cert.Reference.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)
      ∧ m' ((c.tc : Thread Cert.Reference.nD Cert.Reference.τ).loc Cert.Reference.main_arg5) = m ((c.tc : Thread Cert.Kernel.nD Cert.Kernel.τ).loc Cert.Kernel.main_arg5)) →
    ∃ (v0 : (c : Dev Cert.Kernel.nD) → Buf (Elt Bits) ((c.tc : Thread Cert.Kernel.nD Cert.Kernel.τ).loc Cert.Kernel.main_v7)) (v1 : (c : Dev Cert.Kernel.nD) → Buf (Elt Bits) ((c.tc : Thread Cert.Kernel.nD Cert.Kernel.τ).loc Cert.Kernel.main_v8)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v7) = v0 c
          ∧ r.2.mem ((c.tc : Thread Cert.Kernel.nD Cert.Kernel.τ).loc Cert.Kernel.main_v8) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v35_0) = v0 c
          ∧ r.2.mem ((c.tc : Thread Cert.Reference.nD Cert.Reference.τ).loc Cert.Reference.main_v35_1) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4)
          ∧ r.2.mem ((c.tc : Thread Cert.Reference.nD Cert.Reference.τ).loc Cert.Reference.main_arg5) = m' ((c.tc : Thread Cert.Reference.nD Cert.Reference.τ).loc Cert.Reference.main_arg5))

def Claim : Prop :=
  ∃ (hKernel : Cert.Kernel.Facts) (hReference : Cert.Reference.Facts) (hPre_pre : Cert.Pre_pre.Facts),
    quiescent_Kernel (hKernel := hKernel) (hPre_pre := hPre_pre)
    ∧ quiescent_Reference (hReference := hReference)
    ∧ quiescent_Reference_pre_pre (hReference := hReference) (hPre_pre := hPre_pre)
    ∧ bitexact_Kernel_Reference (hKernel := hKernel) (hReference := hReference) (hPre_pre := hPre_pre)
-- ==== Pre_pre.lean ====
abbrev S1280x16x108x128 : Shape := ⟨4, ![1280, 16, 108, 128]⟩
abbrev S1280x16x108 : Shape := ⟨3, ![1280, 16, 108]⟩
abbrev S8x128 : Shape := ⟨2, ![8, 128]⟩
abbrev S8 : Shape := ⟨1, ![8]⟩
abbrev S_ : Shape := ⟨0, ![]⟩

class Facts : Prop where
  bcast_S_S8x128 : S_.BroadcastsInDim S8x128 (![] : Fin 0 → Fin S8x128.rank)
  reducesTo_S8x128_S_d0_1 : S8x128.ReducesTo [0, 1] S_
  h_S_ : 0 < S_.numel

variable [Facts]

def fn {F : FTy → Type} [FloatOps F] (main_arg0 : FVec F S1280x16x108x128 .fp8e4m3) (main_arg1 : FVec F S1280x16x108x128 .fp8e4m3) (main_arg2 : FVec F S1280x16x108 .f32) (main_arg3 : FVec F S1280x16x108 .f32) (main_arg4 : IVec S8x128 32) (main_arg5 : IVec S8 32) : IVec S_ 1 :=
  let main_c : IVec S_ 32 := constantI S_ 32 0#32
  let main_v0 : IVec S8x128 32 := broadcastInDim S8x128 ![] bcast_S_S8x128 main_c
  let main_v1 : IVec S8x128 1 := cmpi .sge main_arg4 main_v0
  let main_c_0 : IVec S_ 32 := constantI S_ 32 1280#32
  let main_v2 : IVec S8x128 32 := broadcastInDim S8x128 ![] bcast_S_S8x128 main_c_0
  let main_v3 : IVec S8x128 1 := cmpi .slt main_arg4 main_v2
  let main_v4 : IVec S8x128 1 := andi main_v1 main_v3
  let main_c_1 : IVec S_ 1 := constantI S_ 1 1#1
  let main_v5 : IVec S_ 1 := (fun x v => Host.reduce IntOp.andi x v reducesTo_S8x128_S_d0_1 h_S_) main_v4 main_c_1
  main_v5
-- ==== Kernel.lean ====
abbrev S1280x16x108x128 : Shape := ⟨4, ![1280, 16, 108, 128]⟩
abbrev S1280x16x108 : Shape := ⟨3, ![1280, 16, 108]⟩
abbrev S8x128 : Shape := ⟨2, ![8, 128]⟩
abbrev S8 : Shape := ⟨1, ![8]⟩
abbrev S1280x108x16x128 : Shape := ⟨4, ![1280, 108, 16, 128]⟩
abbrev S1280x1728x128 : Shape := ⟨3, ![1280, 1728, 128]⟩
abbrev S108x16x1280 : Shape := ⟨3, ![108, 16, 1280]⟩
abbrev S8x108x2048x128 : Shape := ⟨4, ![8, 108, 2048, 128]⟩
abbrev S128 : Shape := ⟨1, ![128]⟩
abbrev S2x2x8x1728x128 : Shape := ⟨5, ![2, 2, 8, 1728, 128]⟩
abbrev S2x2x108x128x128 : Shape := ⟨5, ![2, 2, 108, 128, 128]⟩
abbrev S2x10x108x8x128 : Shape := ⟨5, ![2, 10, 108, 8, 128]⟩
abbrev S2x12x16x1280 : Shape := ⟨4, ![2, 12, 16, 1280]⟩
abbrev S108x128x128 : Shape := ⟨3, ![108, 128, 128]⟩
abbrev S2x2 : Shape := ⟨2, ![2, 2]⟩
abbrev S2 : Shape := ⟨1, ![2]⟩
abbrev S_ : Shape := ⟨0, ![]⟩
abbrev S1 : Shape := ⟨1, ![1]⟩
abbrev S1x12x16x1280 : Shape := ⟨4, ![1, 12, 16, 1280]⟩
abbrev S12x16x1280 : Shape := ⟨3, ![12, 16, 1280]⟩
abbrev S1x1 : Shape := ⟨2, ![1, 1]⟩
abbrev S1x1x1x1728x128 : Shape := ⟨5, ![1, 1, 1, 1728, 128]⟩
abbrev S1728x128 : Shape := ⟨2, ![1728, 128]⟩
abbrev S1x1728x128 : Shape := ⟨3, ![1, 1728, 128]⟩
abbrev S128x128 : Shape := ⟨2, ![128, 128]⟩
abbrev S1x128x128 : Shape := ⟨3, ![1, 128, 128]⟩
abbrev S1x1x16x128 : Shape := ⟨4, ![1, 1, 16, 128]⟩
abbrev S16x128 : Shape := ⟨2, ![16, 128]⟩
abbrev S1x1x1x8x128 : Shape := ⟨5, ![1, 1, 1, 8, 128]⟩
abbrev S1x108x128x128 : Shape := ⟨4, ![1, 108, 128, 128]⟩
abbrev S1x1x108x128x128 : Shape := ⟨5, ![1, 1, 108, 128, 128]⟩
abbrev S1x1x1x32x128 : Shape := ⟨5, ![1, 1, 1, 32, 128]⟩
abbrev S32x128 : Shape := ⟨2, ![32, 128]⟩
abbrev S8x128x1 : Shape := ⟨3, ![8, 128, 1]⟩
abbrev S1x1x1x16x128 : Shape := ⟨5, ![1, 1, 1, 16, 128]⟩
abbrev S8x2048x108x128 : Shape := ⟨4, ![8, 2048, 108, 128]⟩

abbrev nBuf : Space → Nat
  | .hbm => 16
  | .vmem => 5
  | .smem => 3
  | _ => 0

abbrev bufTy : (tb : Table) → Fin (tcTables nBuf tb) → BufTy
  | .hbm, ⟨0, _⟩ => ⟨S1280x16x108x128, .fp8e4m3⟩
  | .hbm, ⟨1, _⟩ => ⟨S1280x16x108x128, .fp8e4m3⟩
  | .hbm, ⟨2, _⟩ => ⟨S1280x16x108, .f32⟩
  | .hbm, ⟨3, _⟩ => ⟨S1280x16x108, .f32⟩
  | .hbm, ⟨4, _⟩ => ⟨S8x128, .i32⟩
  | .hbm, ⟨5, _⟩ => ⟨S8, .i32⟩
  | .hbm, ⟨6, _⟩ => ⟨S1280x108x16x128, .fp8e4m3⟩
  | .hbm, ⟨7, _⟩ => ⟨S1280x1728x128, .fp8e4m3⟩
  | .hbm, ⟨8, _⟩ => ⟨S1280x108x16x128, .fp8e4m3⟩
  | .hbm, ⟨9, _⟩ => ⟨S1280x1728x128, .fp8e4m3⟩
  | .hbm, ⟨10, _⟩ => ⟨S108x16x1280, .f32⟩
  | .hbm, ⟨11, _⟩ => ⟨S108x16x1280, .f32⟩
  | .hbm, ⟨12, _⟩ => ⟨S8x108x2048x128, .bf16⟩
  | .hbm, ⟨13, _⟩ => ⟨S8x108x2048x128, .bf16⟩
  | .hbm, ⟨14, _⟩ => ⟨S8x2048x108x128, .bf16⟩
  | .hbm, ⟨15, _⟩ => ⟨S8x2048x108x128, .bf16⟩
  | .local _ .vmem, ⟨0, _⟩ => ⟨S2x2x8x1728x128, .fp8e4m3⟩
  | .local _ .vmem, ⟨1, _⟩ => ⟨S2x2x108x128x128, .bf16⟩
  | .local _ .vmem, ⟨2, _⟩ => ⟨S2x10x108x8x128, .i32⟩
  | .local _ .vmem, ⟨3, _⟩ => ⟨S2x12x16x1280, .f32⟩
  | .local _ .vmem, ⟨4, _⟩ => ⟨S108x128x128, .bf16⟩
  | .local _ .smem, ⟨0, _⟩ => ⟨S8x128, .i32⟩
  | .local _ .smem, ⟨1, _⟩ => ⟨S8, .i32⟩
  | .local _ .smem, ⟨2, _⟩ => ⟨S128, .i32⟩
  | _, _ => ⟨S1280x16x108x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev cc0_scratch1 : Ref sig .tc := ⟨.vmem, 0, rfl⟩
abbrev cc0_scratch2 : Ref sig .tc := ⟨.vmem, 1, rfl⟩
abbrev cc0_scratch3 : Ref sig .tc := ⟨.vmem, 2, rfl⟩
abbrev cc0_scratch4 : Ref sig .tc := ⟨.vmem, 3, rfl⟩
abbrev cc0_scratch5 : Ref sig .tc := ⟨.vmem, 4, rfl⟩
abbrev cc0_stg0_0 : Ref sig .tc := ⟨.smem, 0, rfl⟩
abbrev cc0_stg1_0 : Ref sig .tc := ⟨.smem, 1, rfl⟩
abbrev cc0_scratch0 : Ref sig .tc := ⟨.smem, 2, rfl⟩
abbrev cc0_sem0_0 : DmaSem sig := 0
abbrev cc0_sem1_0 : DmaSem sig := 1

abbrev nD : Nat := 1
abbrev τ : Topo := Topo.v7x

variable {F : FTy → Type} [BitOps F]

abbrev grid0 : Pipeline.Grid := .none

@[reducible] def k0_t1_loop : Scf.Loop 32 :=
  let c0_i32_0 : BitVec 32 := 0#32
  let c8_i32 : BitVec 32 := 8#32
  let v0 : BitVec 32 := Scalar.addi c0_i32_0 c8_i32
  let c1_i32 : BitVec 32 := 1#32
  ⟨c0_i32_0, v0, c1_i32⟩
def k0_off1 (k0_t1 : Fin k0_t1_loop.trips) : Fin 1 → Nat :=
  let c0_i32_0 : BitVec 32 := 0#32
  let c1_i32 : BitVec 32 := 1#32
  let arg18 : BitVec 32 := Scf.iv c0_i32_0 c1_i32 k0_t1
  let v226 : Index := Scalar.indexCast arg18
  ![v226.toNat]
@[reducible] def k0_t2_loop (v227 : BitVec 32) : Scf.Loop 32 :=
  let c0_i32_383 : BitVec 32 := 0#32
  let c2048_i32 : BitVec 32 := 2048#32
  let c0_i32_380 : BitVec 32 := 0#32
  let v228 : BitVec 32 := Scalar.maxsi c0_i32_380 v227
  let v229 : BitVec 32 := Scalar.minsi c2048_i32 v228
  let c127_i32 : BitVec 32 := 127#32
  let v230 : BitVec 32 := Scalar.addi v229 c127_i32
  let c128_i32_381 : BitVec 32 := 128#32
  let v231 : BitVec 32 := Scalar.divsi v230 c128_i32_381
  let v232 : BitVec 32 := Scalar.subi v231 c0_i32_383
  let c1_i32_384 : BitVec 32 := 1#32
  let v234 : BitVec 32 := Scalar.divsi v232 c1_i32_384
  let v235 : BitVec 32 := Scalar.muli v234 c1_i32_384
  let v236 : BitVec 32 := Scalar.addi c0_i32_383 v235
  let c1_i32_385 : BitVec 32 := 1#32
  ⟨c0_i32_383, v236, c1_i32_385⟩

def k0_off2 (arg19 : BitVec 32) (v227 : BitVec 32) (k0_t2 : Fin (k0_t2_loop v227).trips) : Fin 1 → Nat :=
  let c0_i32_383 : BitVec 32 := 0#32
  let c1_i32_385 : BitVec 32 := 1#32
  let arg20 : BitVec 32 := Scf.iv c0_i32_383 c1_i32_385 k0_t2
  let v240 : BitVec 32 := Scalar.addi arg19 arg20
  let v241 : Index := Scalar.indexCast v240
  ![v241.toNat]
@[reducible] def k0_t3_loop (v227 : BitVec 32) : Scf.Loop 32 :=
  let c0_i32_383 : BitVec 32 := 0#32
  let c2048_i32 : BitVec 32 := 2048#32
  let c0_i32_380 : BitVec 32 := 0#32
  let v228 : BitVec 32 := Scalar.maxsi c0_i32_380 v227
  let v229 : BitVec 32 := Scalar.minsi c2048_i32 v228
  let c127_i32 : BitVec 32 := 127#32
  let v230 : BitVec 32 := Scalar.addi v229 c127_i32
  let c128_i32_381 : BitVec 32 := 128#32
  let v231 : BitVec 32 := Scalar.divsi v230 c128_i32_381
  let v232 : BitVec 32 := Scalar.subi v231 c0_i32_383
  let c1_i32_384 : BitVec 32 := 1#32
  let v234 : BitVec 32 := Scalar.divsi v232 c1_i32_384
  let v235 : BitVec 32 := Scalar.muli v234 c1_i32_384
  let v236 : BitVec 32 := Scalar.addi c0_i32_383 v235
  let v233 : BitVec 32 := Scalar.addi c0_i32_383 v232
  let c1_i32_386 : BitVec 32 := 1#32
  ⟨v236, v233, c1_i32_386⟩
def k0_off3 (arg19 : BitVec 32) (v227 : BitVec 32) (k0_t3 : Fin (k0_t3_loop v227).trips) : Fin 1 → Nat :=
  let c0_i32_383 : BitVec 32 := 0#32
  let c2048_i32 : BitVec 32 := 2048#32
  let c0_i32_380 : BitVec 32 := 0#32
  let v228 : BitVec 32 := Scalar.maxsi c0_i32_380 v227
  let v229 : BitVec 32 := Scalar.minsi c2048_i32 v228
  let c127_i32 : BitVec 32 := 127#32
  let v230 : BitVec 32 := Scalar.addi v229 c127_i32
  let c128_i32_381 : BitVec 32 := 128#32
  let v231 : BitVec 32 := Scalar.divsi v230 c128_i32_381
  let v232 : BitVec 32 := Scalar.subi v231 c0_i32_383
  let c1_i32_384 : BitVec 32 := 1#32
  let v234 : BitVec 32 := Scalar.divsi v232 c1_i32_384
  let v235 : BitVec 32 := Scalar.muli v234 c1_i32_384
  let v236 : BitVec 32 := Scalar.addi c0_i32_383 v235
  let c1_i32_386 : BitVec 32 := 1#32
  let arg20 : BitVec 32 := Scf.iv v236 c1_i32_386 k0_t3
  let v240 : BitVec 32 := Scalar.addi arg19 arg20
  let v241 : Index := Scalar.indexCast v240
  ![v241.toNat]

def k0_chk1 (arg19 : BitVec 32) (v227 : BitVec 32) : Prop :=
  ((k0_t2_loop v227).OK) ∧
  (∀ k0_t2 : Fin (k0_t2_loop v227).trips, ∀ a, (k0_off2 arg19 v227 k0_t2) a + S1.size a ≤ S128.size a) ∧
  ((k0_t3_loop v227).OK) ∧
  (∀ k0_t3 : Fin (k0_t3_loop v227).trips, ∀ a, (k0_off3 arg19 v227 k0_t3) a + S1.size a ≤ S128.size a)
theorem k0_t2_ok : ∀ (arg19 : BitVec 32) (v227 : BitVec 32) (k0_hw1 : k0_chk1 arg19 v227), (k0_t2_loop v227).OK := fun arg19 v227 k0_hw1 => k0_hw1.1
theorem k0_off2_inb : ∀ (arg19 : BitVec 32) (v227 : BitVec 32) (k0_hw1 : k0_chk1 arg19 v227) (k0_t2 : Fin (k0_t2_loop v227).trips), ∀ a, (k0_off2 arg19 v227 k0_t2) a + S1.size a ≤ S128.size a := fun arg19 v227 k0_hw1 k0_t2 => k0_hw1.2.1 k0_t2
theorem k0_t3_ok : ∀ (arg19 : BitVec 32) (v227 : BitVec 32) (k0_hw1 : k0_chk1 arg19 v227), (k0_t3_loop v227).OK := fun arg19 v227 k0_hw1 => k0_hw1.2.2.1
theorem k0_off3_inb : ∀ (arg19 : BitVec 32) (v227 : BitVec 32) (k0_hw1 : k0_chk1 arg19 v227) (k0_t3 : Fin (k0_t3_loop v227).trips), ∀ a, (k0_off3 arg19 v227 k0_t3) a + S1.size a ≤ S128.size a := fun arg19 v227 k0_hw1 k0_t3 => k0_hw1.2.2.2 k0_t3

def k0_off4 (v226 : BitVec 32) : Fin 1 → Nat :=
  let c0_i32_380 : BitVec 32 := 0#32
  let v228 : BitVec 1 := Scalar.cmpi .sgt v226 c0_i32_380
  let v229 : BitVec 32 := Scalar.extui v228
  let c0_i32_381 : BitVec 32 := 0#32
  let v230 : BitVec 1 := Scalar.cmpi .slt v226 c0_i32_381
  let v231 : BitVec 32 := Scalar.extui v230
  let v232 : BitVec 32 := Scalar.subi v229 v231
  let c16_i32 : BitVec 32 := 16#32
  let c0_i32_382 : BitVec 32 := 0#32
  let v233 : BitVec 1 := Scalar.cmpi .sgt c16_i32 c0_i32_382
  let v234 : BitVec 32 := Scalar.extui v233
  let c0_i32_383 : BitVec 32 := 0#32
  let v235 : BitVec 1 := Scalar.cmpi .slt c16_i32 c0_i32_383
  let v236 : BitVec 32 := Scalar.extui v235
  let v237 : BitVec 32 := Scalar.subi v234 v236
  let v238 : BitVec 1 := Scalar.cmpi .ne v232 v237
  let v239 : BitVec 32 := Scalar.remsi v226 c16_i32
  let c0_i32_384 : BitVec 32 := 0#32
  let v240 : BitVec 1 := Scalar.cmpi .ne v239 c0_i32_384
  let v241 : BitVec 1 := Scalar.andi v238 v240
  let v227 : BitVec 32 := Scalar.divsi v226 c16_i32
  let c1_i32_385 : BitVec 32 := 1#32
  let v242 : BitVec 32 := Scalar.subi v227 c1_i32_385
  let v243 : BitVec 32 := Scalar.select v241 v242 v227
  let v254 : Index := Scalar.indexCast v243
  ![v254.toNat]
def k0_cond1 (v1 : BitVec 32) : BitVec 1 :=
  let c0_i32_10 : BitVec 32 := 0#32
  let v7 : BitVec 1 := Scalar.cmpi .sgt v1 c0_i32_10
  let v8 : BitVec 32 := Scalar.extui v7
  let c0_i32_11 : BitVec 32 := 0#32
  let v9 : BitVec 1 := Scalar.cmpi .ne v8 c0_i32_11
  v9

def k0_chk2 (v1 : BitVec 32) (v226 : BitVec 32) : Prop :=
  (∀ (k0_h1 : k0_cond1 v1 = 1#1), ∀ a, (k0_off4 v226) a + S1.size a ≤ S8.size a)
theorem k0_off4_inb : ∀ (v1 : BitVec 32) (v226 : BitVec 32) (k0_hw2 : k0_chk2 v1 v226), ∀ (k0_h1 : k0_cond1 v1 = 1#1), ∀ a, (k0_off4 v226) a + S1.size a ≤ S8.size a := fun v1 v226 k0_hw2 k0_h1 => k0_hw2 k0_h1

@[reducible] def k0_t4_loop (v226 : BitVec 32) (v255 : BitVec 32) : Scf.Loop 32 :=
  let c0_i32_398 : BitVec 32 := 0#32
  let c8_i32_396 : BitVec 32 := 8#32
  let c0_i32_395 : BitVec 32 := 0#32
  let c2048_i32 : BitVec 32 := 2048#32
  let c0_i32_392 : BitVec 32 := 0#32
  let v256 : BitVec 32 := Scalar.maxsi c0_i32_392 v255
  let v257 : BitVec 32 := Scalar.minsi c2048_i32 v256
  let c15_i32 : BitVec 32 := 15#32
  let v258 : BitVec 32 := Scalar.addi v257 c15_i32
  let c16_i32_393 : BitVec 32 := 16#32
  let v259 : BitVec 32 := Scalar.divsi v258 c16_i32_393
  let c16_i32_386 : BitVec 32 := 16#32
  let c0_i32_387 : BitVec 32 := 0#32
  let v244 : BitVec 1 := Scalar.cmpi .eq c16_i32_386 c0_i32_387
  let c1_i32_388 : BitVec 32 := 1#32
  let v245 : BitVec 32 := Scalar.select v244 c1_i32_388 c16_i32_386
  let v246 : BitVec 32 := Scalar.remsi v226 v245
  let c0_i32_390 : BitVec 32 := 0#32
  let v248 : BitVec 1 := Scalar.cmpi .slt v246 c0_i32_390
  let c0_i32_391 : BitVec 32 := 0#32
  let v249 : BitVec 1 := Scalar.cmpi .slt v245 c0_i32_391
  let v250 : BitVec 1 := Scalar.xori v248 v249
  let c0_i32_389 : BitVec 32 := 0#32
  let v247 : BitVec 1 := Scalar.cmpi .ne v246 c0_i32_389
  let v251 : BitVec 1 := Scalar.andi v250 v247
  let v252 : BitVec 32 := Scalar.addi v246 v245
  let v253 : BitVec 32 := Scalar.select v251 v252 v246
  let c8_i32_394 : BitVec 32 := 8#32
  let v260 : BitVec 32 := Scalar.muli v253 c8_i32_394
  let v261 : BitVec 32 := Scalar.subi v259 v260
  let v262 : BitVec 32 := Scalar.maxsi c0_i32_395 v261
  let v263 : BitVec 32 := Scalar.minsi c8_i32_396 v262
  let v264 : BitVec 32 := Scalar.subi v263 c0_i32_398
  let c1_i32_399 : BitVec 32 := 1#32
  let v266 : BitVec 32 := Scalar.divsi v264 c1_i32_399
  let v267 : BitVec 32 := Scalar.muli v266 c1_i32_399
  let v268 : BitVec 32 := Scalar.addi c0_i32_398 v267
  let c1_i32_400 : BitVec 32 := 1#32
  ⟨c0_i32_398, v268, c1_i32_400⟩

def k0_off5 (v226 : BitVec 32) (v255 : BitVec 32) (k0_t4 : Fin (k0_t4_loop v226 v255).trips) : Fin 2 → Nat :=
  let c0_i32_380 : BitVec 32 := 0#32
  let v228 : BitVec 1 := Scalar.cmpi .sgt v226 c0_i32_380
  let v229 : BitVec 32 := Scalar.extui v228
  let c0_i32_381 : BitVec 32 := 0#32
  let v230 : BitVec 1 := Scalar.cmpi .slt v226 c0_i32_381
  let v231 : BitVec 32 := Scalar.extui v230
  let v232 : BitVec 32 := Scalar.subi v229 v231
  let c16_i32 : BitVec 32 := 16#32
  let c0_i32_382 : BitVec 32 := 0#32
  let v233 : BitVec 1 := Scalar.cmpi .sgt c16_i32 c0_i32_382
  let v234 : BitVec 32 := Scalar.extui v233
  let c0_i32_383 : BitVec 32 := 0#32
  let v235 : BitVec 1 := Scalar.cmpi .slt c16_i32 c0_i32_383
  let v236 : BitVec 32 := Scalar.extui v235
  let v237 : BitVec 32 := Scalar.subi v234 v236
  let v238 : BitVec 1 := Scalar.cmpi .ne v232 v237
  let v239 : BitVec 32 := Scalar.remsi v226 c16_i32
  let c0_i32_384 : BitVec 32 := 0#32
  let v240 : BitVec 1 := Scalar.cmpi .ne v239 c0_i32_384
  let v241 : BitVec 1 := Scalar.andi v238 v240
  let v227 : BitVec 32 := Scalar.divsi v226 c16_i32
  let c1_i32_385 : BitVec 32 := 1#32
  let v242 : BitVec 32 := Scalar.subi v227 c1_i32_385
  let v243 : BitVec 32 := Scalar.select v241 v242 v227
  let v314 : Index := Scalar.indexCast v243
  let c16_i32_386 : BitVec 32 := 16#32
  let c0_i32_387 : BitVec 32 := 0#32
  let v244 : BitVec 1 := Scalar.cmpi .eq c16_i32_386 c0_i32_387
  let c1_i32_388 : BitVec 32 := 1#32
  let v245 : BitVec 32 := Scalar.select v244 c1_i32_388 c16_i32_386
  let v246 : BitVec 32 := Scalar.remsi v226 v245
  let c0_i32_390 : BitVec 32 := 0#32
  let v248 : BitVec 1 := Scalar.cmpi .slt v246 c0_i32_390
  let c0_i32_391 : BitVec 32 := 0#32
  let v249 : BitVec 1 := Scalar.cmpi .slt v245 c0_i32_391
  let v250 : BitVec 1 := Scalar.xori v248 v249
  let c0_i32_389 : BitVec 32 := 0#32
  let v247 : BitVec 1 := Scalar.cmpi .ne v246 c0_i32_389
  let v251 : BitVec 1 := Scalar.andi v250 v247
  let v252 : BitVec 32 := Scalar.addi v246 v245
  let v253 : BitVec 32 := Scalar.select v251 v252 v246
  let c8_i32_428 : BitVec 32 := 8#32
  let v312 : BitVec 32 := Scalar.muli v253 c8_i32_428
  let c0_i32_398 : BitVec 32 := 0#32
  let c1_i32_400 : BitVec 32 := 1#32
  let arg18 : BitVec 32 := Scf.iv c0_i32_398 c1_i32_400 k0_t4
  let v313 : BitVec 32 := Scalar.addi v312 arg18
  let v315 : Index := Scalar.indexCast v313
  ![v314.toNat, v315.toNat]
def k0_off6 (v226 : BitVec 32) (v255 : BitVec 32) (k0_t4 : Fin (k0_t4_loop v226 v255).trips) : Fin 5 → Nat :=
  let c0_i32_429 : BitVec 32 := 0#32
  let c0_i32_430 : BitVec 32 := 0#32
  let c0_i32_398 : BitVec 32 := 0#32
  let c1_i32_400 : BitVec 32 := 1#32
  let arg18 : BitVec 32 := Scf.iv c0_i32_398 c1_i32_400 k0_t4
  let c0_i32_433 : BitVec 32 := 0#32
  let c0_i32_434 : BitVec 32 := 0#32
  ![0, 0, arg18.toNat, 0, 0]
def k0_off7 (v316 : BitVec 32) : Fin 3 → Nat :=
  let c0_i32_435 : BitVec 32 := 0#32
  let c0_i32_436 : BitVec 32 := 0#32
  ![v316.toNat, 0, 0]

def k0_chk4 (v1 : BitVec 32) (v316 : BitVec 32) : Prop :=
  (∀ (k0_h1 : k0_cond1 v1 = 1#1), ∀ a, (k0_off7 v316) a + S1x1728x128.size a ≤ S1280x1728x128.size a) ∧
  (∀ (k0_h1 : k0_cond1 v1 = 1#1), ∀ (hinb : ∀ a, (k0_off7 v316) a + S1x1728x128.size a ≤ S1280x1728x128.size a), (Rect.unit (s := S1280x1728x128) (k0_off7 v316) S1x1728x128.size hinb).WholeWords (EltTy.packing .fp8e4m3))
theorem k0_off7_inb : ∀ (v1 : BitVec 32) (v316 : BitVec 32) (k0_hw4 : k0_chk4 v1 v316), ∀ (k0_h1 : k0_cond1 v1 = 1#1), ∀ a, (k0_off7 v316) a + S1x1728x128.size a ≤ S1280x1728x128.size a := fun v1 v316 k0_hw4 k0_h1 => k0_hw4.1 k0_h1
theorem k0_off7_wordsfp8e4m3 : ∀ (v1 : BitVec 32) (v316 : BitVec 32) (k0_hw4 : k0_chk4 v1 v316), ∀ (k0_h1 : k0_cond1 v1 = 1#1), (Rect.unit (s := S1280x1728x128) (k0_off7 v316) S1x1728x128.size (k0_off7_inb v1 v316 k0_hw4 k0_h1)).WholeWords (EltTy.packing .fp8e4m3) := fun v1 v316 k0_hw4 k0_h1 => k0_hw4.2 k0_h1 (k0_off7_inb v1 v316 k0_hw4 k0_h1)

@[reducible] def k0_t5_loop (v226 : BitVec 32) (v255 : BitVec 32) : Scf.Loop 32 :=
  let c0_i32_398 : BitVec 32 := 0#32
  let c8_i32_396 : BitVec 32 := 8#32
  let c0_i32_395 : BitVec 32 := 0#32
  let c2048_i32 : BitVec 32 := 2048#32
  let c0_i32_392 : BitVec 32 := 0#32
  let v256 : BitVec 32 := Scalar.maxsi c0_i32_392 v255
  let v257 : BitVec 32 := Scalar.minsi c2048_i32 v256
  let c15_i32 : BitVec 32 := 15#32
  let v258 : BitVec 32 := Scalar.addi v257 c15_i32
  let c16_i32_393 : BitVec 32 := 16#32
  let v259 : BitVec 32 := Scalar.divsi v258 c16_i32_393
  let c16_i32_386 : BitVec 32 := 16#32
  let c0_i32_387 : BitVec 32 := 0#32
  let v244 : BitVec 1 := Scalar.cmpi .eq c16_i32_386 c0_i32_387
  let c1_i32_388 : BitVec 32 := 1#32
  let v245 : BitVec 32 := Scalar.select v244 c1_i32_388 c16_i32_386
  let v246 : BitVec 32 := Scalar.remsi v226 v245
  let c0_i32_390 : BitVec 32 := 0#32
  let v248 : BitVec 1 := Scalar.cmpi .slt v246 c0_i32_390
  let c0_i32_391 : BitVec 32 := 0#32
  let v249 : BitVec 1 := Scalar.cmpi .slt v245 c0_i32_391
  let v250 : BitVec 1 := Scalar.xori v248 v249
  let c0_i32_389 : BitVec 32 := 0#32
  let v247 : BitVec 1 := Scalar.cmpi .ne v246 c0_i32_389
  let v251 : BitVec 1 := Scalar.andi v250 v247
  let v252 : BitVec 32 := Scalar.addi v246 v245
  let v253 : BitVec 32 := Scalar.select v251 v252 v246
  let c8_i32_394 : BitVec 32 := 8#32
  let v260 : BitVec 32 := Scalar.muli v253 c8_i32_394
  let v261 : BitVec 32 := Scalar.subi v259 v260
  let v262 : BitVec 32 := Scalar.maxsi c0_i32_395 v261
  let v263 : BitVec 32 := Scalar.minsi c8_i32_396 v262
  let v264 : BitVec 32 := Scalar.subi v263 c0_i32_398
  let c1_i32_399 : BitVec 32 := 1#32
  let v266 : BitVec 32 := Scalar.divsi v264 c1_i32_399
  let v267 : BitVec 32 := Scalar.muli v266 c1_i32_399
  let v268 : BitVec 32 := Scalar.addi c0_i32_398 v267
  let v265 : BitVec 32 := Scalar.addi c0_i32_398 v264
  let c1_i32_401 : BitVec 32 := 1#32
  ⟨v268, v265, c1_i32_401⟩
def k0_off8 (v226 : BitVec 32) (v255 : BitVec 32) (k0_t5 : Fin (k0_t5_loop v226 v255).trips) : Fin 2 → Nat :=
  let c0_i32_380 : BitVec 32 := 0#32
  let v228 : BitVec 1 := Scalar.cmpi .sgt v226 c0_i32_380
  let v229 : BitVec 32 := Scalar.extui v228
  let c0_i32_381 : BitVec 32 := 0#32
  let v230 : BitVec 1 := Scalar.cmpi .slt v226 c0_i32_381
  let v231 : BitVec 32 := Scalar.extui v230
  let v232 : BitVec 32 := Scalar.subi v229 v231
  let c16_i32 : BitVec 32 := 16#32
  let c0_i32_382 : BitVec 32 := 0#32
  let v233 : BitVec 1 := Scalar.cmpi .sgt c16_i32 c0_i32_382
  let v234 : BitVec 32 := Scalar.extui v233
  let c0_i32_383 : BitVec 32 := 0#32
  let v235 : BitVec 1 := Scalar.cmpi .slt c16_i32 c0_i32_383
  let v236 : BitVec 32 := Scalar.extui v235
  let v237 : BitVec 32 := Scalar.subi v234 v236
  let v238 : BitVec 1 := Scalar.cmpi .ne v232 v237
  let v239 : BitVec 32 := Scalar.remsi v226 c16_i32
  let c0_i32_384 : BitVec 32 := 0#32
  let v240 : BitVec 1 := Scalar.cmpi .ne v239 c0_i32_384
  let v241 : BitVec 1 := Scalar.andi v238 v240
  let v227 : BitVec 32 := Scalar.divsi v226 c16_i32
  let c1_i32_385 : BitVec 32 := 1#32
  let v242 : BitVec 32 := Scalar.subi v227 c1_i32_385
  let v243 : BitVec 32 := Scalar.select v241 v242 v227
  let v314 : Index := Scalar.indexCast v243
  let c16_i32_386 : BitVec 32 := 16#32
  let c0_i32_387 : BitVec 32 := 0#32
  let v244 : BitVec 1 := Scalar.cmpi .eq c16_i32_386 c0_i32_387
  let c1_i32_388 : BitVec 32 := 1#32
  let v245 : BitVec 32 := Scalar.select v244 c1_i32_388 c16_i32_386
  let v246 : BitVec 32 := Scalar.remsi v226 v245
  let c0_i32_390 : BitVec 32 := 0#32
  let v248 : BitVec 1 := Scalar.cmpi .slt v246 c0_i32_390
  let c0_i32_391 : BitVec 32 := 0#32
  let v249 : BitVec 1 := Scalar.cmpi .slt v245 c0_i32_391
  let v250 : BitVec 1 := Scalar.xori v248 v249
  let c0_i32_389 : BitVec 32 := 0#32
  let v247 : BitVec 1 := Scalar.cmpi .ne v246 c0_i32_389
  let v251 : BitVec 1 := Scalar.andi v250 v247
  let v252 : BitVec 32 := Scalar.addi v246 v245
  let v253 : BitVec 32 := Scalar.select v251 v252 v246
  let c8_i32_428 : BitVec 32 := 8#32
  let v312 : BitVec 32 := Scalar.muli v253 c8_i32_428
  let c0_i32_398 : BitVec 32 := 0#32
  let c8_i32_396 : BitVec 32 := 8#32
  let c0_i32_395 : BitVec 32 := 0#32
  let c2048_i32 : BitVec 32 := 2048#32
  let c0_i32_392 : BitVec 32 := 0#32
  let v256 : BitVec 32 := Scalar.maxsi c0_i32_392 v255
  let v257 : BitVec 32 := Scalar.minsi c2048_i32 v256
  let c15_i32 : BitVec 32 := 15#32
  let v258 : BitVec 32 := Scalar.addi v257 c15_i32
  let c16_i32_393 : BitVec 32 := 16#32
  let v259 : BitVec 32 := Scalar.divsi v258 c16_i32_393
  let c8_i32_394 : BitVec 32 := 8#32
  let v260 : BitVec 32 := Scalar.muli v253 c8_i32_394
  let v261 : BitVec 32 := Scalar.subi v259 v260
  let v262 : BitVec 32 := Scalar.maxsi c0_i32_395 v261
  let v263 : BitVec 32 := Scalar.minsi c8_i32_396 v262
  let v264 : BitVec 32 := Scalar.subi v263 c0_i32_398
  let c1_i32_399 : BitVec 32 := 1#32
  let v266 : BitVec 32 := Scalar.divsi v264 c1_i32_399
  let v267 : BitVec 32 := Scalar.muli v266 c1_i32_399
  let v268 : BitVec 32 := Scalar.addi c0_i32_398 v267
  let c1_i32_401 : BitVec 32 := 1#32
  let arg18 : BitVec 32 := Scf.iv v268 c1_i32_401 k0_t5
  let v313 : BitVec 32 := Scalar.addi v312 arg18
  let v315 : Index := Scalar.indexCast v313
  ![v314.toNat, v315.toNat]
def k0_off9 (v226 : BitVec 32) (v255 : BitVec 32) (k0_t5 : Fin (k0_t5_loop v226 v255).trips) : Fin 5 → Nat :=
  let c0_i32_429 : BitVec 32 := 0#32
  let c0_i32_430 : BitVec 32 := 0#32
  let c0_i32_398 : BitVec 32 := 0#32
  let c8_i32_396 : BitVec 32 := 8#32
  let c0_i32_395 : BitVec 32 := 0#32
  let c2048_i32 : BitVec 32 := 2048#32
  let c0_i32_392 : BitVec 32 := 0#32
  let v256 : BitVec 32 := Scalar.maxsi c0_i32_392 v255
  let v257 : BitVec 32 := Scalar.minsi c2048_i32 v256
  let c15_i32 : BitVec 32 := 15#32
  let v258 : BitVec 32 := Scalar.addi v257 c15_i32
  let c16_i32_393 : BitVec 32 := 16#32
  let v259 : BitVec 32 := Scalar.divsi v258 c16_i32_393
  let c16_i32_386 : BitVec 32 := 16#32
  let c0_i32_387 : BitVec 32 := 0#32
  let v244 : BitVec 1 := Scalar.cmpi .eq c16_i32_386 c0_i32_387
  let c1_i32_388 : BitVec 32 := 1#32
  let v245 : BitVec 32 := Scalar.select v244 c1_i32_388 c16_i32_386
  let v246 : BitVec 32 := Scalar.remsi v226 v245
  let c0_i32_390 : BitVec 32 := 0#32
  let v248 : BitVec 1 := Scalar.cmpi .slt v246 c0_i32_390
  let c0_i32_391 : BitVec 32 := 0#32
  let v249 : BitVec 1 := Scalar.cmpi .slt v245 c0_i32_391
  let v250 : BitVec 1 := Scalar.xori v248 v249
  let c0_i32_389 : BitVec 32 := 0#32
  let v247 : BitVec 1 := Scalar.cmpi .ne v246 c0_i32_389
  let v251 : BitVec 1 := Scalar.andi v250 v247
  let v252 : BitVec 32 := Scalar.addi v246 v245
  let v253 : BitVec 32 := Scalar.select v251 v252 v246
  let c8_i32_394 : BitVec 32 := 8#32
  let v260 : BitVec 32 := Scalar.muli v253 c8_i32_394
  let v261 : BitVec 32 := Scalar.subi v259 v260
  let v262 : BitVec 32 := Scalar.maxsi c0_i32_395 v261
  let v263 : BitVec 32 := Scalar.minsi c8_i32_396 v262
  let v264 : BitVec 32 := Scalar.subi v263 c0_i32_398
  let c1_i32_399 : BitVec 32 := 1#32
  let v266 : BitVec 32 := Scalar.divsi v264 c1_i32_399
  let v267 : BitVec 32 := Scalar.muli v266 c1_i32_399
  let v268 : BitVec 32 := Scalar.addi c0_i32_398 v267
  let c1_i32_401 : BitVec 32 := 1#32
  let arg18 : BitVec 32 := Scf.iv v268 c1_i32_401 k0_t5
  let c0_i32_433 : BitVec 32 := 0#32
  let c0_i32_434 : BitVec 32 := 0#32
  ![0, 0, arg18.toNat, 0, 0]
def k0_off10 (v316 : BitVec 32) : Fin 3 → Nat :=
  let c0_i32_435 : BitVec 32 := 0#32
  let c0_i32_436 : BitVec 32 := 0#32
  ![v316.toNat, 0, 0]

def k0_chk5 (v1 : BitVec 32) (v316 : BitVec 32) : Prop :=
  (∀ (k0_h1 : k0_cond1 v1 = 1#1), ∀ a, (k0_off10 v316) a + S1x1728x128.size a ≤ S1280x1728x128.size a) ∧
  (∀ (k0_h1 : k0_cond1 v1 = 1#1), ∀ (hinb : ∀ a, (k0_off10 v316) a + S1x1728x128.size a ≤ S1280x1728x128.size a), (Rect.unit (s := S1280x1728x128) (k0_off10 v316) S1x1728x128.size hinb).WholeWords (EltTy.packing .fp8e4m3))
theorem k0_off10_inb : ∀ (v1 : BitVec 32) (v316 : BitVec 32) (k0_hw5 : k0_chk5 v1 v316), ∀ (k0_h1 : k0_cond1 v1 = 1#1), ∀ a, (k0_off10 v316) a + S1x1728x128.size a ≤ S1280x1728x128.size a := fun v1 v316 k0_hw5 k0_h1 => k0_hw5.1 k0_h1
theorem k0_off10_wordsfp8e4m3 : ∀ (v1 : BitVec 32) (v316 : BitVec 32) (k0_hw5 : k0_chk5 v1 v316), ∀ (k0_h1 : k0_cond1 v1 = 1#1), (Rect.unit (s := S1280x1728x128) (k0_off10 v316) S1x1728x128.size (k0_off10_inb v1 v316 k0_hw5 k0_h1)).WholeWords (EltTy.packing .fp8e4m3) := fun v1 v316 k0_hw5 k0_h1 => k0_hw5.2 k0_h1 (k0_off10_inb v1 v316 k0_hw5 k0_h1)

def k0_chk3 (v1 : BitVec 32) (v226 : BitVec 32) (v255 : BitVec 32) : Prop :=
  (∀ (k0_h1 : k0_cond1 v1 = 1#1), (k0_t4_loop v226 v255).OK) ∧
  (∀ k0_t4 : Fin (k0_t4_loop v226 v255).trips, ∀ (k0_h1 : k0_cond1 v1 = 1#1), ∀ a, (k0_off5 v226 v255 k0_t4) a + S1x1.size a ≤ S8x128.size a) ∧
  (∀ k0_t4 : Fin (k0_t4_loop v226 v255).trips, ∀ (k0_h1 : k0_cond1 v1 = 1#1), ∀ a, (k0_off6 v226 v255 k0_t4) a + S1x1x1x1728x128.size a ≤ S2x2x8x1728x128.size a) ∧
  (∀ k0_t4 : Fin (k0_t4_loop v226 v255).trips, ∀ (k0_h1 : k0_cond1 v1 = 1#1), ∀ (hinb : ∀ a, (k0_off6 v226 v255 k0_t4) a + S1x1x1x1728x128.size a ≤ S2x2x8x1728x128.size a), (Rect.unit (s := S2x2x8x1728x128) (k0_off6 v226 v255 k0_t4) S1x1x1x1728x128.size hinb).WholeWords (EltTy.packing .fp8e4m3)) ∧
  (∀ (k0_h1 : k0_cond1 v1 = 1#1), (k0_t5_loop v226 v255).OK) ∧
  (∀ k0_t5 : Fin (k0_t5_loop v226 v255).trips, ∀ (k0_h1 : k0_cond1 v1 = 1#1), ∀ a, (k0_off8 v226 v255 k0_t5) a + S1x1.size a ≤ S8x128.size a) ∧
  (∀ k0_t5 : Fin (k0_t5_loop v226 v255).trips, ∀ (k0_h1 : k0_cond1 v1 = 1#1), ∀ a, (k0_off9 v226 v255 k0_t5) a + S1x1x1x1728x128.size a ≤ S2x2x8x1728x128.size a) ∧
  (∀ k0_t5 : Fin (k0_t5_loop v226 v255).trips, ∀ (k0_h1 : k0_cond1 v1 = 1#1), ∀ (hinb : ∀ a, (k0_off9 v226 v255 k0_t5) a + S1x1x1x1728x128.size a ≤ S2x2x8x1728x128.size a), (Rect.unit (s := S2x2x8x1728x128) (k0_off9 v226 v255 k0_t5) S1x1x1x1728x128.size hinb).WholeWords (EltTy.packing .fp8e4m3))
theorem k0_t4_ok : ∀ (v1 : BitVec 32) (v226 : BitVec 32) (v255 : BitVec 32) (k0_hw3 : k0_chk3 v1 v226 v255), ∀ (k0_h1 : k0_cond1 v1 = 1#1), (k0_t4_loop v226 v255).OK := fun v1 v226 v255 k0_hw3 k0_h1 => k0_hw3.1 k0_h1
theorem k0_off5_inb : ∀ (v1 : BitVec 32) (v226 : BitVec 32) (v255 : BitVec 32) (k0_hw3 : k0_chk3 v1 v226 v255) (k0_t4 : Fin (k0_t4_loop v226 v255).trips), ∀ (k0_h1 : k0_cond1 v1 = 1#1), ∀ a, (k0_off5 v226 v255 k0_t4) a + S1x1.size a ≤ S8x128.size a := fun v1 v226 v255 k0_hw3 k0_t4 k0_h1 => k0_hw3.2.1 k0_t4 k0_h1
theorem k0_off6_inb : ∀ (v1 : BitVec 32) (v226 : BitVec 32) (v255 : BitVec 32) (k0_hw3 : k0_chk3 v1 v226 v255) (k0_t4 : Fin (k0_t4_loop v226 v255).trips), ∀ (k0_h1 : k0_cond1 v1 = 1#1), ∀ a, (k0_off6 v226 v255 k0_t4) a + S1x1x1x1728x128.size a ≤ S2x2x8x1728x128.size a := fun v1 v226 v255 k0_hw3 k0_t4 k0_h1 => k0_hw3.2.2.1 k0_t4 k0_h1
theorem k0_off6_wordsfp8e4m3 : ∀ (v1 : BitVec 32) (v226 : BitVec 32) (v255 : BitVec 32) (k0_hw3 : k0_chk3 v1 v226 v255) (k0_t4 : Fin (k0_t4_loop v226 v255).trips), ∀ (k0_h1 : k0_cond1 v1 = 1#1), (Rect.unit (s := S2x2x8x1728x128) (k0_off6 v226 v255 k0_t4) S1x1x1x1728x128.size (k0_off6_inb v1 v226 v255 k0_hw3 k0_t4 k0_h1)).WholeWords (EltTy.packing .fp8e4m3) := fun v1 v226 v255 k0_hw3 k0_t4 k0_h1 => k0_hw3.2.2.2.1 k0_t4 k0_h1 (k0_off6_inb v1 v226 v255 k0_hw3 k0_t4 k0_h1)
theorem k0_t5_ok : ∀ (v1 : BitVec 32) (v226 : BitVec 32) (v255 : BitVec 32) (k0_hw3 : k0_chk3 v1 v226 v255), ∀ (k0_h1 : k0_cond1 v1 = 1#1), (k0_t5_loop v226 v255).OK := fun v1 v226 v255 k0_hw3 k0_h1 => k0_hw3.2.2.2.2.1 k0_h1
theorem k0_off8_inb : ∀ (v1 : BitVec 32) (v226 : BitVec 32) (v255 : BitVec 32) (k0_hw3 : k0_chk3 v1 v226 v255) (k0_t5 : Fin (k0_t5_loop v226 v255).trips), ∀ (k0_h1 : k0_cond1 v1 = 1#1), ∀ a, (k0_off8 v226 v255 k0_t5) a + S1x1.size a ≤ S8x128.size a := fun v1 v226 v255 k0_hw3 k0_t5 k0_h1 => k0_hw3.2.2.2.2.2.1 k0_t5 k0_h1
theorem k0_off9_inb : ∀ (v1 : BitVec 32) (v226 : BitVec 32) (v255 : BitVec 32) (k0_hw3 : k0_chk3 v1 v226 v255) (k0_t5 : Fin (k0_t5_loop v226 v255).trips), ∀ (k0_h1 : k0_cond1 v1 = 1#1), ∀ a, (k0_off9 v226 v255 k0_t5) a + S1x1x1x1728x128.size a ≤ S2x2x8x1728x128.size a := fun v1 v226 v255 k0_hw3 k0_t5 k0_h1 => k0_hw3.2.2.2.2.2.2.1 k0_t5 k0_h1
theorem k0_off9_wordsfp8e4m3 : ∀ (v1 : BitVec 32) (v226 : BitVec 32) (v255 : BitVec 32) (k0_hw3 : k0_chk3 v1 v226 v255) (k0_t5 : Fin (k0_t5_loop v226 v255).trips), ∀ (k0_h1 : k0_cond1 v1 = 1#1), (Rect.unit (s := S2x2x8x1728x128) (k0_off9 v226 v255 k0_t5) S1x1x1x1728x128.size (k0_off9_inb v1 v226 v255 k0_hw3 k0_t5 k0_h1)).WholeWords (EltTy.packing .fp8e4m3) := fun v1 v226 v255 k0_hw3 k0_t5 k0_h1 => k0_hw3.2.2.2.2.2.2.2 k0_t5 k0_h1 (k0_off9_inb v1 v226 v255 k0_hw3 k0_t5 k0_h1)

def k0_off11 (v269 : BitVec 32) : Fin 1 → Nat :=
  let c0_i32_404 : BitVec 32 := 0#32
  let v271 : BitVec 1 := Scalar.cmpi .sgt v269 c0_i32_404
  let v272 : BitVec 32 := Scalar.extui v271
  let c0_i32_405 : BitVec 32 := 0#32
  let v273 : BitVec 1 := Scalar.cmpi .slt v269 c0_i32_405
  let v274 : BitVec 32 := Scalar.extui v273
  let v275 : BitVec 32 := Scalar.subi v272 v274
  let c16_i32_403 : BitVec 32 := 16#32
  let c0_i32_406 : BitVec 32 := 0#32
  let v276 : BitVec 1 := Scalar.cmpi .sgt c16_i32_403 c0_i32_406
  let v277 : BitVec 32 := Scalar.extui v276
  let c0_i32_407 : BitVec 32 := 0#32
  let v278 : BitVec 1 := Scalar.cmpi .slt c16_i32_403 c0_i32_407
  let v279 : BitVec 32 := Scalar.extui v278
  let v280 : BitVec 32 := Scalar.subi v277 v279
  let v281 : BitVec 1 := Scalar.cmpi .ne v275 v280
  let v282 : BitVec 32 := Scalar.remsi v269 c16_i32_403
  let c0_i32_408 : BitVec 32 := 0#32
  let v283 : BitVec 1 := Scalar.cmpi .ne v282 c0_i32_408
  let v284 : BitVec 1 := Scalar.andi v281 v283
  let v270 : BitVec 32 := Scalar.divsi v269 c16_i32_403
  let c1_i32_409 : BitVec 32 := 1#32
  let v285 : BitVec 32 := Scalar.subi v270 c1_i32_409
  let v286 : BitVec 32 := Scalar.select v284 v285 v270
  let v297 : Index := Scalar.indexCast v286
  ![v297.toNat]

def k0_chk6 (v1 : BitVec 32) (v269 : BitVec 32) : Prop :=
  (∀ (k0_h1 : k0_cond1 v1 = 1#1), ∀ a, (k0_off11 v269) a + S1.size a ≤ S8.size a)
theorem k0_off11_inb : ∀ (v1 : BitVec 32) (v269 : BitVec 32) (k0_hw6 : k0_chk6 v1 v269), ∀ (k0_h1 : k0_cond1 v1 = 1#1), ∀ a, (k0_off11 v269) a + S1.size a ≤ S8.size a := fun v1 v269 k0_hw6 k0_h1 => k0_hw6 k0_h1

@[reducible] def k0_t6_loop (v269 : BitVec 32) (v298 : BitVec 32) : Scf.Loop 32 :=
  let c0_i32_424 : BitVec 32 := 0#32
  let c8_i32_422 : BitVec 32 := 8#32
  let c0_i32_421 : BitVec 32 := 0#32
  let c2048_i32_417 : BitVec 32 := 2048#32
  let c0_i32_416 : BitVec 32 := 0#32
  let v299 : BitVec 32 := Scalar.maxsi c0_i32_416 v298
  let v300 : BitVec 32 := Scalar.minsi c2048_i32_417 v299
  let c15_i32_418 : BitVec 32 := 15#32
  let v301 : BitVec 32 := Scalar.addi v300 c15_i32_418
  let c16_i32_419 : BitVec 32 := 16#32
  let v302 : BitVec 32 := Scalar.divsi v301 c16_i32_419
  let c16_i32_410 : BitVec 32 := 16#32
  let c0_i32_411 : BitVec 32 := 0#32
  let v287 : BitVec 1 := Scalar.cmpi .eq c16_i32_410 c0_i32_411
  let c1_i32_412 : BitVec 32 := 1#32
  let v288 : BitVec 32 := Scalar.select v287 c1_i32_412 c16_i32_410
  let v289 : BitVec 32 := Scalar.remsi v269 v288
  let c0_i32_414 : BitVec 32 := 0#32
  let v291 : BitVec 1 := Scalar.cmpi .slt v289 c0_i32_414
  let c0_i32_415 : BitVec 32 := 0#32
  let v292 : BitVec 1 := Scalar.cmpi .slt v288 c0_i32_415
  let v293 : BitVec 1 := Scalar.xori v291 v292
  let c0_i32_413 : BitVec 32 := 0#32
  let v290 : BitVec 1 := Scalar.cmpi .ne v289 c0_i32_413
  let v294 : BitVec 1 := Scalar.andi v293 v290
  let v295 : BitVec 32 := Scalar.addi v289 v288
  let v296 : BitVec 32 := Scalar.select v294 v295 v289
  let c8_i32_420 : BitVec 32 := 8#32
  let v303 : BitVec 32 := Scalar.muli v296 c8_i32_420
  let v304 : BitVec 32 := Scalar.subi v302 v303
  let v305 : BitVec 32 := Scalar.maxsi c0_i32_421 v304
  let v306 : BitVec 32 := Scalar.minsi c8_i32_422 v305
  let v307 : BitVec 32 := Scalar.subi v306 c0_i32_424
  let c1_i32_425 : BitVec 32 := 1#32
  let v309 : BitVec 32 := Scalar.divsi v307 c1_i32_425
  let v310 : BitVec 32 := Scalar.muli v309 c1_i32_425
  let v311 : BitVec 32 := Scalar.addi c0_i32_424 v310
  let c1_i32_426 : BitVec 32 := 1#32
  ⟨c0_i32_424, v311, c1_i32_426⟩

def k0_off12 (v269 : BitVec 32) (v298 : BitVec 32) (k0_t6 : Fin (k0_t6_loop v269 v298).trips) : Fin 2 → Nat :=
  let c0_i32_404 : BitVec 32 := 0#32
  let v271 : BitVec 1 := Scalar.cmpi .sgt v269 c0_i32_404
  let v272 : BitVec 32 := Scalar.extui v271
  let c0_i32_405 : BitVec 32 := 0#32
  let v273 : BitVec 1 := Scalar.cmpi .slt v269 c0_i32_405
  let v274 : BitVec 32 := Scalar.extui v273
  let v275 : BitVec 32 := Scalar.subi v272 v274
  let c16_i32_403 : BitVec 32 := 16#32
  let c0_i32_406 : BitVec 32 := 0#32
  let v276 : BitVec 1 := Scalar.cmpi .sgt c16_i32_403 c0_i32_406
  let v277 : BitVec 32 := Scalar.extui v276
  let c0_i32_407 : BitVec 32 := 0#32
  let v278 : BitVec 1 := Scalar.cmpi .slt c16_i32_403 c0_i32_407
  let v279 : BitVec 32 := Scalar.extui v278
  let v280 : BitVec 32 := Scalar.subi v277 v279
  let v281 : BitVec 1 := Scalar.cmpi .ne v275 v280
  let v282 : BitVec 32 := Scalar.remsi v269 c16_i32_403
  let c0_i32_408 : BitVec 32 := 0#32
  let v283 : BitVec 1 := Scalar.cmpi .ne v282 c0_i32_408
  let v284 : BitVec 1 := Scalar.andi v281 v283
  let v270 : BitVec 32 := Scalar.divsi v269 c16_i32_403
  let c1_i32_409 : BitVec 32 := 1#32
  let v285 : BitVec 32 := Scalar.subi v270 c1_i32_409
  let v286 : BitVec 32 := Scalar.select v284 v285 v270
  let v314 : Index := Scalar.indexCast v286
  let c16_i32_410 : BitVec 32 := 16#32
  let c0_i32_411 : BitVec 32 := 0#32
  let v287 : BitVec 1 := Scalar.cmpi .eq c16_i32_410 c0_i32_411
  let c1_i32_412 : BitVec 32 := 1#32
  let v288 : BitVec 32 := Scalar.select v287 c1_i32_412 c16_i32_410
  let v289 : BitVec 32 := Scalar.remsi v269 v288
  let c0_i32_414 : BitVec 32 := 0#32
  let v291 : BitVec 1 := Scalar.cmpi .slt v289 c0_i32_414
  let c0_i32_415 : BitVec 32 := 0#32
  let v292 : BitVec 1 := Scalar.cmpi .slt v288 c0_i32_415
  let v293 : BitVec 1 := Scalar.xori v291 v292
  let c0_i32_413 : BitVec 32 := 0#32
  let v290 : BitVec 1 := Scalar.cmpi .ne v289 c0_i32_413
  let v294 : BitVec 1 := Scalar.andi v293 v290
  let v295 : BitVec 32 := Scalar.addi v289 v288
  let v296 : BitVec 32 := Scalar.select v294 v295 v289
  let c8_i32_428 : BitVec 32 := 8#32
  let v312 : BitVec 32 := Scalar.muli v296 c8_i32_428
  let c0_i32_424 : BitVec 32 := 0#32
  let c1_i32_426 : BitVec 32 := 1#32
  let arg18 : BitVec 32 := Scf.iv c0_i32_424 c1_i32_426 k0_t6
  let v313 : BitVec 32 := Scalar.addi v312 arg18
  let v315 : Index := Scalar.indexCast v313
  ![v314.toNat, v315.toNat]
def k0_off13 (v269 : BitVec 32) (v298 : BitVec 32) (k0_t6 : Fin (k0_t6_loop v269 v298).trips) : Fin 5 → Nat :=
  let c1_i32_429 : BitVec 32 := 1#32
  let c0_i32_430 : BitVec 32 := 0#32
  let c0_i32_424 : BitVec 32 := 0#32
  let c1_i32_426 : BitVec 32 := 1#32
  let arg18 : BitVec 32 := Scf.iv c0_i32_424 c1_i32_426 k0_t6
  let c0_i32_433 : BitVec 32 := 0#32
  let c0_i32_434 : BitVec 32 := 0#32
  ![1, 0, arg18.toNat, 0, 0]
def k0_off14 (v316 : BitVec 32) : Fin 3 → Nat :=
  let c0_i32_435 : BitVec 32 := 0#32
  let c0_i32_436 : BitVec 32 := 0#32
  ![v316.toNat, 0, 0]

def k0_chk8 (v1 : BitVec 32) (v316 : BitVec 32) : Prop :=
  (∀ (k0_h1 : k0_cond1 v1 = 1#1), ∀ a, (k0_off14 v316) a + S1x1728x128.size a ≤ S1280x1728x128.size a) ∧
  (∀ (k0_h1 : k0_cond1 v1 = 1#1), ∀ (hinb : ∀ a, (k0_off14 v316) a + S1x1728x128.size a ≤ S1280x1728x128.size a), (Rect.unit (s := S1280x1728x128) (k0_off14 v316) S1x1728x128.size hinb).WholeWords (EltTy.packing .fp8e4m3))
theorem k0_off14_inb : ∀ (v1 : BitVec 32) (v316 : BitVec 32) (k0_hw8 : k0_chk8 v1 v316), ∀ (k0_h1 : k0_cond1 v1 = 1#1), ∀ a, (k0_off14 v316) a + S1x1728x128.size a ≤ S1280x1728x128.size a := fun v1 v316 k0_hw8 k0_h1 => k0_hw8.1 k0_h1
theorem k0_off14_wordsfp8e4m3 : ∀ (v1 : BitVec 32) (v316 : BitVec 32) (k0_hw8 : k0_chk8 v1 v316), ∀ (k0_h1 : k0_cond1 v1 = 1#1), (Rect.unit (s := S1280x1728x128) (k0_off14 v316) S1x1728x128.size (k0_off14_inb v1 v316 k0_hw8 k0_h1)).WholeWords (EltTy.packing .fp8e4m3) := fun v1 v316 k0_hw8 k0_h1 => k0_hw8.2 k0_h1 (k0_off14_inb v1 v316 k0_hw8 k0_h1)

@[reducible] def k0_t7_loop (v269 : BitVec 32) (v298 : BitVec 32) : Scf.Loop 32 :=
  let c0_i32_424 : BitVec 32 := 0#32
  let c8_i32_422 : BitVec 32 := 8#32
  let c0_i32_421 : BitVec 32 := 0#32
  let c2048_i32_417 : BitVec 32 := 2048#32
  let c0_i32_416 : BitVec 32 := 0#32
  let v299 : BitVec 32 := Scalar.maxsi c0_i32_416 v298
  let v300 : BitVec 32 := Scalar.minsi c2048_i32_417 v299
  let c15_i32_418 : BitVec 32 := 15#32
  let v301 : BitVec 32 := Scalar.addi v300 c15_i32_418
  let c16_i32_419 : BitVec 32 := 16#32
  let v302 : BitVec 32 := Scalar.divsi v301 c16_i32_419
  let c16_i32_410 : BitVec 32 := 16#32
  let c0_i32_411 : BitVec 32 := 0#32
  let v287 : BitVec 1 := Scalar.cmpi .eq c16_i32_410 c0_i32_411
  let c1_i32_412 : BitVec 32 := 1#32
  let v288 : BitVec 32 := Scalar.select v287 c1_i32_412 c16_i32_410
  let v289 : BitVec 32 := Scalar.remsi v269 v288
  let c0_i32_414 : BitVec 32 := 0#32
  let v291 : BitVec 1 := Scalar.cmpi .slt v289 c0_i32_414
  let c0_i32_415 : BitVec 32 := 0#32
  let v292 : BitVec 1 := Scalar.cmpi .slt v288 c0_i32_415
  let v293 : BitVec 1 := Scalar.xori v291 v292
  let c0_i32_413 : BitVec 32 := 0#32
  let v290 : BitVec 1 := Scalar.cmpi .ne v289 c0_i32_413
  let v294 : BitVec 1 := Scalar.andi v293 v290
  let v295 : BitVec 32 := Scalar.addi v289 v288
  let v296 : BitVec 32 := Scalar.select v294 v295 v289
  let c8_i32_420 : BitVec 32 := 8#32
  let v303 : BitVec 32 := Scalar.muli v296 c8_i32_420
  let v304 : BitVec 32 := Scalar.subi v302 v303
  let v305 : BitVec 32 := Scalar.maxsi c0_i32_421 v304
  let v306 : BitVec 32 := Scalar.minsi c8_i32_422 v305
  let v307 : BitVec 32 := Scalar.subi v306 c0_i32_424
  let c1_i32_425 : BitVec 32 := 1#32
  let v309 : BitVec 32 := Scalar.divsi v307 c1_i32_425
  let v310 : BitVec 32 := Scalar.muli v309 c1_i32_425
  let v311 : BitVec 32 := Scalar.addi c0_i32_424 v310
  let v308 : BitVec 32 := Scalar.addi c0_i32_424 v307
  let c1_i32_427 : BitVec 32 := 1#32
  ⟨v311, v308, c1_i32_427⟩
def k0_off15 (v269 : BitVec 32) (v298 : BitVec 32) (k0_t7 : Fin (k0_t7_loop v269 v298).trips) : Fin 2 → Nat :=
  let c0_i32_404 : BitVec 32 := 0#32
  let v271 : BitVec 1 := Scalar.cmpi .sgt v269 c0_i32_404
  let v272 : BitVec 32 := Scalar.extui v271
  let c0_i32_405 : BitVec 32 := 0#32
  let v273 : BitVec 1 := Scalar.cmpi .slt v269 c0_i32_405
  let v274 : BitVec 32 := Scalar.extui v273
  let v275 : BitVec 32 := Scalar.subi v272 v274
  let c16_i32_403 : BitVec 32 := 16#32
  let c0_i32_406 : BitVec 32 := 0#32
  let v276 : BitVec 1 := Scalar.cmpi .sgt c16_i32_403 c0_i32_406
  let v277 : BitVec 32 := Scalar.extui v276
  let c0_i32_407 : BitVec 32 := 0#32
  let v278 : BitVec 1 := Scalar.cmpi .slt c16_i32_403 c0_i32_407
  let v279 : BitVec 32 := Scalar.extui v278
  let v280 : BitVec 32 := Scalar.subi v277 v279
  let v281 : BitVec 1 := Scalar.cmpi .ne v275 v280
  let v282 : BitVec 32 := Scalar.remsi v269 c16_i32_403
  let c0_i32_408 : BitVec 32 := 0#32
  let v283 : BitVec 1 := Scalar.cmpi .ne v282 c0_i32_408
  let v284 : BitVec 1 := Scalar.andi v281 v283
  let v270 : BitVec 32 := Scalar.divsi v269 c16_i32_403
  let c1_i32_409 : BitVec 32 := 1#32
  let v285 : BitVec 32 := Scalar.subi v270 c1_i32_409
  let v286 : BitVec 32 := Scalar.select v284 v285 v270
  let v314 : Index := Scalar.indexCast v286
  let c16_i32_410 : BitVec 32 := 16#32
  let c0_i32_411 : BitVec 32 := 0#32
  let v287 : BitVec 1 := Scalar.cmpi .eq c16_i32_410 c0_i32_411
  let c1_i32_412 : BitVec 32 := 1#32
  let v288 : BitVec 32 := Scalar.select v287 c1_i32_412 c16_i32_410
  let v289 : BitVec 32 := Scalar.remsi v269 v288
  let c0_i32_414 : BitVec 32 := 0#32
  let v291 : BitVec 1 := Scalar.cmpi .slt v289 c0_i32_414
  let c0_i32_415 : BitVec 32 := 0#32
  let v292 : BitVec 1 := Scalar.cmpi .slt v288 c0_i32_415
  let v293 : BitVec 1 := Scalar.xori v291 v292
  let c0_i32_413 : BitVec 32 := 0#32
  let v290 : BitVec 1 := Scalar.cmpi .ne v289 c0_i32_413
  let v294 : BitVec 1 := Scalar.andi v293 v290
  let v295 : BitVec 32 := Scalar.addi v289 v288
  let v296 : BitVec 32 := Scalar.select v294 v295 v289
  let c8_i32_428 : BitVec 32 := 8#32
  let v312 : BitVec 32 := Scalar.muli v296 c8_i32_428
  let c0_i32_424 : BitVec 32 := 0#32
  let c8_i32_422 : BitVec 32 := 8#32
  let c0_i32_421 : BitVec 32 := 0#32
  let c2048_i32_417 : BitVec 32 := 2048#32
  let c0_i32_416 : BitVec 32 := 0#32
  let v299 : BitVec 32 := Scalar.maxsi c0_i32_416 v298
  let v300 : BitVec 32 := Scalar.minsi c2048_i32_417 v299
  let c15_i32_418 : BitVec 32 := 15#32
  let v301 : BitVec 32 := Scalar.addi v300 c15_i32_418
  let c16_i32_419 : BitVec 32 := 16#32
  let v302 : BitVec 32 := Scalar.divsi v301 c16_i32_419
  let c8_i32_420 : BitVec 32 := 8#32
  let v303 : BitVec 32 := Scalar.muli v296 c8_i32_420
  let v304 : BitVec 32 := Scalar.subi v302 v303
  let v305 : BitVec 32 := Scalar.maxsi c0_i32_421 v304
  let v306 : BitVec 32 := Scalar.minsi c8_i32_422 v305
  let v307 : BitVec 32 := Scalar.subi v306 c0_i32_424
  let c1_i32_425 : BitVec 32 := 1#32
  let v309 : BitVec 32 := Scalar.divsi v307 c1_i32_425
  let v310 : BitVec 32 := Scalar.muli v309 c1_i32_425
  let v311 : BitVec 32 := Scalar.addi c0_i32_424 v310
  let c1_i32_427 : BitVec 32 := 1#32
  let arg18 : BitVec 32 := Scf.iv v311 c1_i32_427 k0_t7
  let v313 : BitVec 32 := Scalar.addi v312 arg18
  let v315 : Index := Scalar.indexCast v313
  ![v314.toNat, v315.toNat]
def k0_off16 (v269 : BitVec 32) (v298 : BitVec 32) (k0_t7 : Fin (k0_t7_loop v269 v298).trips) : Fin 5 → Nat :=
  let c1_i32_429 : BitVec 32 := 1#32
  let c0_i32_430 : BitVec 32 := 0#32
  let c0_i32_424 : BitVec 32 := 0#32
  let c8_i32_422 : BitVec 32 := 8#32
  let c0_i32_421 : BitVec 32 := 0#32
  let c2048_i32_417 : BitVec 32 := 2048#32
  let c0_i32_416 : BitVec 32 := 0#32
  let v299 : BitVec 32 := Scalar.maxsi c0_i32_416 v298
  let v300 : BitVec 32 := Scalar.minsi c2048_i32_417 v299
  let c15_i32_418 : BitVec 32 := 15#32
  let v301 : BitVec 32 := Scalar.addi v300 c15_i32_418
  let c16_i32_419 : BitVec 32 := 16#32
  let v302 : BitVec 32 := Scalar.divsi v301 c16_i32_419
  let c16_i32_410 : BitVec 32 := 16#32
  let c0_i32_411 : BitVec 32 := 0#32
  let v287 : BitVec 1 := Scalar.cmpi .eq c16_i32_410 c0_i32_411
  let c1_i32_412 : BitVec 32 := 1#32
  let v288 : BitVec 32 := Scalar.select v287 c1_i32_412 c16_i32_410
  let v289 : BitVec 32 := Scalar.remsi v269 v288
  let c0_i32_414 : BitVec 32 := 0#32
  let v291 : BitVec 1 := Scalar.cmpi .slt v289 c0_i32_414
  let c0_i32_415 : BitVec 32 := 0#32
  let v292 : BitVec 1 := Scalar.cmpi .slt v288 c0_i32_415
  let v293 : BitVec 1 := Scalar.xori v291 v292
  let c0_i32_413 : BitVec 32 := 0#32
  let v290 : BitVec 1 := Scalar.cmpi .ne v289 c0_i32_413
  let v294 : BitVec 1 := Scalar.andi v293 v290
  let v295 : BitVec 32 := Scalar.addi v289 v288
  let v296 : BitVec 32 := Scalar.select v294 v295 v289
  let c8_i32_420 : BitVec 32 := 8#32
  let v303 : BitVec 32 := Scalar.muli v296 c8_i32_420
  let v304 : BitVec 32 := Scalar.subi v302 v303
  let v305 : BitVec 32 := Scalar.maxsi c0_i32_421 v304
  let v306 : BitVec 32 := Scalar.minsi c8_i32_422 v305
  let v307 : BitVec 32 := Scalar.subi v306 c0_i32_424
  let c1_i32_425 : BitVec 32 := 1#32
  let v309 : BitVec 32 := Scalar.divsi v307 c1_i32_425
  let v310 : BitVec 32 := Scalar.muli v309 c1_i32_425
  let v311 : BitVec 32 := Scalar.addi c0_i32_424 v310
  let c1_i32_427 : BitVec 32 := 1#32
  let arg18 : BitVec 32 := Scf.iv v311 c1_i32_427 k0_t7
  let c0_i32_433 : BitVec 32 := 0#32
  let c0_i32_434 : BitVec 32 := 0#32
  ![1, 0, arg18.toNat, 0, 0]
def k0_off17 (v316 : BitVec 32) : Fin 3 → Nat :=
  let c0_i32_435 : BitVec 32 := 0#32
  let c0_i32_436 : BitVec 32 := 0#32
  ![v316.toNat, 0, 0]

def k0_chk9 (v1 : BitVec 32) (v316 : BitVec 32) : Prop :=
  (∀ (k0_h1 : k0_cond1 v1 = 1#1), ∀ a, (k0_off17 v316) a + S1x1728x128.size a ≤ S1280x1728x128.size a) ∧
  (∀ (k0_h1 : k0_cond1 v1 = 1#1), ∀ (hinb : ∀ a, (k0_off17 v316) a + S1x1728x128.size a ≤ S1280x1728x128.size a), (Rect.unit (s := S1280x1728x128) (k0_off17 v316) S1x1728x128.size hinb).WholeWords (EltTy.packing .fp8e4m3))
theorem k0_off17_inb : ∀ (v1 : BitVec 32) (v316 : BitVec 32) (k0_hw9 : k0_chk9 v1 v316), ∀ (k0_h1 : k0_cond1 v1 = 1#1), ∀ a, (k0_off17 v316) a + S1x1728x128.size a ≤ S1280x1728x128.size a := fun v1 v316 k0_hw9 k0_h1 => k0_hw9.1 k0_h1
theorem k0_off17_wordsfp8e4m3 : ∀ (v1 : BitVec 32) (v316 : BitVec 32) (k0_hw9 : k0_chk9 v1 v316), ∀ (k0_h1 : k0_cond1 v1 = 1#1), (Rect.unit (s := S1280x1728x128) (k0_off17 v316) S1x1728x128.size (k0_off17_inb v1 v316 k0_hw9 k0_h1)).WholeWords (EltTy.packing .fp8e4m3) := fun v1 v316 k0_hw9 k0_h1 => k0_hw9.2 k0_h1 (k0_off17_inb v1 v316 k0_hw9 k0_h1)

def k0_chk7 (v1 : BitVec 32) (v269 : BitVec 32) (v298 : BitVec 32) : Prop :=
  (∀ (k0_h1 : k0_cond1 v1 = 1#1), (k0_t6_loop v269 v298).OK) ∧
  (∀ k0_t6 : Fin (k0_t6_loop v269 v298).trips, ∀ (k0_h1 : k0_cond1 v1 = 1#1), ∀ a, (k0_off12 v269 v298 k0_t6) a + S1x1.size a ≤ S8x128.size a) ∧
  (∀ k0_t6 : Fin (k0_t6_loop v269 v298).trips, ∀ (k0_h1 : k0_cond1 v1 = 1#1), ∀ a, (k0_off13 v269 v298 k0_t6) a + S1x1x1x1728x128.size a ≤ S2x2x8x1728x128.size a) ∧
  (∀ k0_t6 : Fin (k0_t6_loop v269 v298).trips, ∀ (k0_h1 : k0_cond1 v1 = 1#1), ∀ (hinb : ∀ a, (k0_off13 v269 v298 k0_t6) a + S1x1x1x1728x128.size a ≤ S2x2x8x1728x128.size a), (Rect.unit (s := S2x2x8x1728x128) (k0_off13 v269 v298 k0_t6) S1x1x1x1728x128.size hinb).WholeWords (EltTy.packing .fp8e4m3)) ∧
  (∀ (k0_h1 : k0_cond1 v1 = 1#1), (k0_t7_loop v269 v298).OK) ∧
  (∀ k0_t7 : Fin (k0_t7_loop v269 v298).trips, ∀ (k0_h1 : k0_cond1 v1 = 1#1), ∀ a, (k0_off15 v269 v298 k0_t7) a + S1x1.size a ≤ S8x128.size a) ∧
  (∀ k0_t7 : Fin (k0_t7_loop v269 v298).trips, ∀ (k0_h1 : k0_cond1 v1 = 1#1), ∀ a, (k0_off16 v269 v298 k0_t7) a + S1x1x1x1728x128.size a ≤ S2x2x8x1728x128.size a) ∧
  (∀ k0_t7 : Fin (k0_t7_loop v269 v298).trips, ∀ (k0_h1 : k0_cond1 v1 = 1#1), ∀ (hinb : ∀ a, (k0_off16 v269 v298 k0_t7) a + S1x1x1x1728x128.size a ≤ S2x2x8x1728x128.size a), (Rect.unit (s := S2x2x8x1728x128) (k0_off16 v269 v298 k0_t7) S1x1x1x1728x128.size hinb).WholeWords (EltTy.packing .fp8e4m3))
theorem k0_t6_ok : ∀ (v1 : BitVec 32) (v269 : BitVec 32) (v298 : BitVec 32) (k0_hw7 : k0_chk7 v1 v269 v298), ∀ (k0_h1 : k0_cond1 v1 = 1#1), (k0_t6_loop v269 v298).OK := fun v1 v269 v298 k0_hw7 k0_h1 => k0_hw7.1 k0_h1
theorem k0_off12_inb : ∀ (v1 : BitVec 32) (v269 : BitVec 32) (v298 : BitVec 32) (k0_hw7 : k0_chk7 v1 v269 v298) (k0_t6 : Fin (k0_t6_loop v269 v298).trips), ∀ (k0_h1 : k0_cond1 v1 = 1#1), ∀ a, (k0_off12 v269 v298 k0_t6) a + S1x1.size a ≤ S8x128.size a := fun v1 v269 v298 k0_hw7 k0_t6 k0_h1 => k0_hw7.2.1 k0_t6 k0_h1
theorem k0_off13_inb : ∀ (v1 : BitVec 32) (v269 : BitVec 32) (v298 : BitVec 32) (k0_hw7 : k0_chk7 v1 v269 v298) (k0_t6 : Fin (k0_t6_loop v269 v298).trips), ∀ (k0_h1 : k0_cond1 v1 = 1#1), ∀ a, (k0_off13 v269 v298 k0_t6) a + S1x1x1x1728x128.size a ≤ S2x2x8x1728x128.size a := fun v1 v269 v298 k0_hw7 k0_t6 k0_h1 => k0_hw7.2.2.1 k0_t6 k0_h1
theorem k0_off13_wordsfp8e4m3 : ∀ (v1 : BitVec 32) (v269 : BitVec 32) (v298 : BitVec 32) (k0_hw7 : k0_chk7 v1 v269 v298) (k0_t6 : Fin (k0_t6_loop v269 v298).trips), ∀ (k0_h1 : k0_cond1 v1 = 1#1), (Rect.unit (s := S2x2x8x1728x128) (k0_off13 v269 v298 k0_t6) S1x1x1x1728x128.size (k0_off13_inb v1 v269 v298 k0_hw7 k0_t6 k0_h1)).WholeWords (EltTy.packing .fp8e4m3) := fun v1 v269 v298 k0_hw7 k0_t6 k0_h1 => k0_hw7.2.2.2.1 k0_t6 k0_h1 (k0_off13_inb v1 v269 v298 k0_hw7 k0_t6 k0_h1)
theorem k0_t7_ok : ∀ (v1 : BitVec 32) (v269 : BitVec 32) (v298 : BitVec 32) (k0_hw7 : k0_chk7 v1 v269 v298), ∀ (k0_h1 : k0_cond1 v1 = 1#1), (k0_t7_loop v269 v298).OK := fun v1 v269 v298 k0_hw7 k0_h1 => k0_hw7.2.2.2.2.1 k0_h1
theorem k0_off15_inb : ∀ (v1 : BitVec 32) (v269 : BitVec 32) (v298 : BitVec 32) (k0_hw7 : k0_chk7 v1 v269 v298) (k0_t7 : Fin (k0_t7_loop v269 v298).trips), ∀ (k0_h1 : k0_cond1 v1 = 1#1), ∀ a, (k0_off15 v269 v298 k0_t7) a + S1x1.size a ≤ S8x128.size a := fun v1 v269 v298 k0_hw7 k0_t7 k0_h1 => k0_hw7.2.2.2.2.2.1 k0_t7 k0_h1
theorem k0_off16_inb : ∀ (v1 : BitVec 32) (v269 : BitVec 32) (v298 : BitVec 32) (k0_hw7 : k0_chk7 v1 v269 v298) (k0_t7 : Fin (k0_t7_loop v269 v298).trips), ∀ (k0_h1 : k0_cond1 v1 = 1#1), ∀ a, (k0_off16 v269 v298 k0_t7) a + S1x1x1x1728x128.size a ≤ S2x2x8x1728x128.size a := fun v1 v269 v298 k0_hw7 k0_t7 k0_h1 => k0_hw7.2.2.2.2.2.2.1 k0_t7 k0_h1
theorem k0_off16_wordsfp8e4m3 : ∀ (v1 : BitVec 32) (v269 : BitVec 32) (v298 : BitVec 32) (k0_hw7 : k0_chk7 v1 v269 v298) (k0_t7 : Fin (k0_t7_loop v269 v298).trips), ∀ (k0_h1 : k0_cond1 v1 = 1#1), (Rect.unit (s := S2x2x8x1728x128) (k0_off16 v269 v298 k0_t7) S1x1x1x1728x128.size (k0_off16_inb v1 v269 v298 k0_hw7 k0_t7 k0_h1)).WholeWords (EltTy.packing .fp8e4m3) := fun v1 v269 v298 k0_hw7 k0_t7 k0_h1 => k0_hw7.2.2.2.2.2.2.2 k0_t7 k0_h1 (k0_off16_inb v1 v269 v298 k0_hw7 k0_t7 k0_h1)

def k0_off18 (v226 : BitVec 32) : Fin 1 → Nat :=
  let c0_i32_380 : BitVec 32 := 0#32
  let v228 : BitVec 1 := Scalar.cmpi .sgt v226 c0_i32_380
  let v229 : BitVec 32 := Scalar.extui v228
  let c0_i32_381 : BitVec 32 := 0#32
  let v230 : BitVec 1 := Scalar.cmpi .slt v226 c0_i32_381
  let v231 : BitVec 32 := Scalar.extui v230
  let v232 : BitVec 32 := Scalar.subi v229 v231
  let c16_i32 : BitVec 32 := 16#32
  let c0_i32_382 : BitVec 32 := 0#32
  let v233 : BitVec 1 := Scalar.cmpi .sgt c16_i32 c0_i32_382
  let v234 : BitVec 32 := Scalar.extui v233
  let c0_i32_383 : BitVec 32 := 0#32
  let v235 : BitVec 1 := Scalar.cmpi .slt c16_i32 c0_i32_383
  let v236 : BitVec 32 := Scalar.extui v235
  let v237 : BitVec 32 := Scalar.subi v234 v236
  let v238 : BitVec 1 := Scalar.cmpi .ne v232 v237
  let v239 : BitVec 32 := Scalar.remsi v226 c16_i32
  let c0_i32_384 : BitVec 32 := 0#32
  let v240 : BitVec 1 := Scalar.cmpi .ne v239 c0_i32_384
  let v241 : BitVec 1 := Scalar.andi v238 v240
  let v227 : BitVec 32 := Scalar.divsi v226 c16_i32
  let c1_i32_385 : BitVec 32 := 1#32
  let v242 : BitVec 32 := Scalar.subi v227 c1_i32_385
  let v243 : BitVec 32 := Scalar.select v241 v242 v227
  let v254 : Index := Scalar.indexCast v243
  ![v254.toNat]
def k0_cond2 (v1 : BitVec 32) : BitVec 1 :=
  let c1_i32_12 : BitVec 32 := 1#32
  let v10 : BitVec 1 := Scalar.cmpi .sgt v1 c1_i32_12
  let v11 : BitVec 32 := Scalar.extui v10
  let c0_i32_13 : BitVec 32 := 0#32
  let v12 : BitVec 1 := Scalar.cmpi .ne v11 c0_i32_13
  v12

def k0_chk10 (v1 : BitVec 32) (v226 : BitVec 32) : Prop :=
  (∀ (k0_h2 : k0_cond2 v1 = 1#1), ∀ a, (k0_off18 v226) a + S1.size a ≤ S8.size a)
theorem k0_off18_inb : ∀ (v1 : BitVec 32) (v226 : BitVec 32) (k0_hw10 : k0_chk10 v1 v226), ∀ (k0_h2 : k0_cond2 v1 = 1#1), ∀ a, (k0_off18 v226) a + S1.size a ≤ S8.size a := fun v1 v226 k0_hw10 k0_h2 => k0_hw10 k0_h2

@[reducible] def k0_t8_loop (v226 : BitVec 32) (v255 : BitVec 32) : Scf.Loop 32 :=
  let c0_i32_398 : BitVec 32 := 0#32
  let c8_i32_396 : BitVec 32 := 8#32
  let c0_i32_395 : BitVec 32 := 0#32
  let c2048_i32 : BitVec 32 := 2048#32
  let c0_i32_392 : BitVec 32 := 0#32
  let v256 : BitVec 32 := Scalar.maxsi c0_i32_392 v255
  let v257 : BitVec 32 := Scalar.minsi c2048_i32 v256
  let c15_i32 : BitVec 32 := 15#32
  let v258 : BitVec 32 := Scalar.addi v257 c15_i32
  let c16_i32_393 : BitVec 32 := 16#32
  let v259 : BitVec 32 := Scalar.divsi v258 c16_i32_393
  let c16_i32_386 : BitVec 32 := 16#32
  let c0_i32_387 : BitVec 32 := 0#32
  let v244 : BitVec 1 := Scalar.cmpi .eq c16_i32_386 c0_i32_387
  let c1_i32_388 : BitVec 32 := 1#32
  let v245 : BitVec 32 := Scalar.select v244 c1_i32_388 c16_i32_386
  let v246 : BitVec 32 := Scalar.remsi v226 v245
  let c0_i32_390 : BitVec 32 := 0#32
  let v248 : BitVec 1 := Scalar.cmpi .slt v246 c0_i32_390
  let c0_i32_391 : BitVec 32 := 0#32
  let v249 : BitVec 1 := Scalar.cmpi .slt v245 c0_i32_391
  let v250 : BitVec 1 := Scalar.xori v248 v249
  let c0_i32_389 : BitVec 32 := 0#32
  let v247 : BitVec 1 := Scalar.cmpi .ne v246 c0_i32_389
  let v251 : BitVec 1 := Scalar.andi v250 v247
  let v252 : BitVec 32 := Scalar.addi v246 v245
  let v253 : BitVec 32 := Scalar.select v251 v252 v246
  let c8_i32_394 : BitVec 32 := 8#32
  let v260 : BitVec 32 := Scalar.muli v253 c8_i32_394
  let v261 : BitVec 32 := Scalar.subi v259 v260
  let v262 : BitVec 32 := Scalar.maxsi c0_i32_395 v261
  let v263 : BitVec 32 := Scalar.minsi c8_i32_396 v262
  let v264 : BitVec 32 := Scalar.subi v263 c0_i32_398
  let c1_i32_399 : BitVec 32 := 1#32
  let v266 : BitVec 32 := Scalar.divsi v264 c1_i32_399
  let v267 : BitVec 32 := Scalar.muli v266 c1_i32_399
  let v268 : BitVec 32 := Scalar.addi c0_i32_398 v267
  let c1_i32_400 : BitVec 32 := 1#32
  ⟨c0_i32_398, v268, c1_i32_400⟩

def k0_off19 (v226 : BitVec 32) (v255 : BitVec 32) (k0_t8 : Fin (k0_t8_loop v226 v255).trips) : Fin 2 → Nat :=
  let c0_i32_380 : BitVec 32 := 0#32
  let v228 : BitVec 1 := Scalar.cmpi .sgt v226 c0_i32_380
  let v229 : BitVec 32 := Scalar.extui v228
  let c0_i32_381 : BitVec 32 := 0#32
  let v230 : BitVec 1 := Scalar.cmpi .slt v226 c0_i32_381
  let v231 : BitVec 32 := Scalar.extui v230
  let v232 : BitVec 32 := Scalar.subi v229 v231
  let c16_i32 : BitVec 32 := 16#32
  let c0_i32_382 : BitVec 32 := 0#32
  let v233 : BitVec 1 := Scalar.cmpi .sgt c16_i32 c0_i32_382
  let v234 : BitVec 32 := Scalar.extui v233
  let c0_i32_383 : BitVec 32 := 0#32
  let v235 : BitVec 1 := Scalar.cmpi .slt c16_i32 c0_i32_383
  let v236 : BitVec 32 := Scalar.extui v235
  let v237 : BitVec 32 := Scalar.subi v234 v236
  let v238 : BitVec 1 := Scalar.cmpi .ne v232 v237
  let v239 : BitVec 32 := Scalar.remsi v226 c16_i32
  let c0_i32_384 : BitVec 32 := 0#32
  let v240 : BitVec 1 := Scalar.cmpi .ne v239 c0_i32_384
  let v241 : BitVec 1 := Scalar.andi v238 v240
  let v227 : BitVec 32 := Scalar.divsi v226 c16_i32
  let c1_i32_385 : BitVec 32 := 1#32
  let v242 : BitVec 32 := Scalar.subi v227 c1_i32_385
  let v243 : BitVec 32 := Scalar.select v241 v242 v227
  let v314 : Index := Scalar.indexCast v243
  let c16_i32_386 : BitVec 32 := 16#32
  let c0_i32_387 : BitVec 32 := 0#32
  let v244 : BitVec 1 := Scalar.cmpi .eq c16_i32_386 c0_i32_387
  let c1_i32_388 : BitVec 32 := 1#32
  let v245 : BitVec 32 := Scalar.select v244 c1_i32_388 c16_i32_386
  let v246 : BitVec 32 := Scalar.remsi v226 v245
  let c0_i32_390 : BitVec 32 := 0#32
  let v248 : BitVec 1 := Scalar.cmpi .slt v246 c0_i32_390
  let c0_i32_391 : BitVec 32 := 0#32
  let v249 : BitVec 1 := Scalar.cmpi .slt v245 c0_i32_391
  let v250 : BitVec 1 := Scalar.xori v248 v249
  let c0_i32_389 : BitVec 32 := 0#32
  let v247 : BitVec 1 := Scalar.cmpi .ne v246 c0_i32_389
  let v251 : BitVec 1 := Scalar.andi v250 v247
  let v252 : BitVec 32 := Scalar.addi v246 v245
  let v253 : BitVec 32 := Scalar.select v251 v252 v246
  let c8_i32_428 : BitVec 32 := 8#32
  let v312 : BitVec 32 := Scalar.muli v253 c8_i32_428
  let c0_i32_398 : BitVec 32 := 0#32
  let c1_i32_400 : BitVec 32 := 1#32
  let arg18 : BitVec 32 := Scf.iv c0_i32_398 c1_i32_400 k0_t8
  let v313 : BitVec 32 := Scalar.addi v312 arg18
  let v315 : Index := Scalar.indexCast v313
  ![v314.toNat, v315.toNat]
def k0_off20 (v226 : BitVec 32) (v255 : BitVec 32) (k0_t8 : Fin (k0_t8_loop v226 v255).trips) : Fin 5 → Nat :=
  let c0_i32_429 : BitVec 32 := 0#32
  let c1_i32_430 : BitVec 32 := 1#32
  let c0_i32_398 : BitVec 32 := 0#32
  let c1_i32_400 : BitVec 32 := 1#32
  let arg18 : BitVec 32 := Scf.iv c0_i32_398 c1_i32_400 k0_t8
  let c0_i32_433 : BitVec 32 := 0#32
  let c0_i32_434 : BitVec 32 := 0#32
  ![0, 1, arg18.toNat, 0, 0]
def k0_off21 (v316 : BitVec 32) : Fin 3 → Nat :=
  let c0_i32_435 : BitVec 32 := 0#32
  let c0_i32_436 : BitVec 32 := 0#32
  ![v316.toNat, 0, 0]

def k0_chk12 (v1 : BitVec 32) (v316 : BitVec 32) : Prop :=
  (∀ (k0_h2 : k0_cond2 v1 = 1#1), ∀ a, (k0_off21 v316) a + S1x1728x128.size a ≤ S1280x1728x128.size a) ∧
  (∀ (k0_h2 : k0_cond2 v1 = 1#1), ∀ (hinb : ∀ a, (k0_off21 v316) a + S1x1728x128.size a ≤ S1280x1728x128.size a), (Rect.unit (s := S1280x1728x128) (k0_off21 v316) S1x1728x128.size hinb).WholeWords (EltTy.packing .fp8e4m3))
theorem k0_off21_inb : ∀ (v1 : BitVec 32) (v316 : BitVec 32) (k0_hw12 : k0_chk12 v1 v316), ∀ (k0_h2 : k0_cond2 v1 = 1#1), ∀ a, (k0_off21 v316) a + S1x1728x128.size a ≤ S1280x1728x128.size a := fun v1 v316 k0_hw12 k0_h2 => k0_hw12.1 k0_h2
theorem k0_off21_wordsfp8e4m3 : ∀ (v1 : BitVec 32) (v316 : BitVec 32) (k0_hw12 : k0_chk12 v1 v316), ∀ (k0_h2 : k0_cond2 v1 = 1#1), (Rect.unit (s := S1280x1728x128) (k0_off21 v316) S1x1728x128.size (k0_off21_inb v1 v316 k0_hw12 k0_h2)).WholeWords (EltTy.packing .fp8e4m3) := fun v1 v316 k0_hw12 k0_h2 => k0_hw12.2 k0_h2 (k0_off21_inb v1 v316 k0_hw12 k0_h2)

@[reducible] def k0_t9_loop (v226 : BitVec 32) (v255 : BitVec 32) : Scf.Loop 32 :=
  let c0_i32_398 : BitVec 32 := 0#32
  let c8_i32_396 : BitVec 32 := 8#32
  let c0_i32_395 : BitVec 32 := 0#32
  let c2048_i32 : BitVec 32 := 2048#32
  let c0_i32_392 : BitVec 32 := 0#32
  let v256 : BitVec 32 := Scalar.maxsi c0_i32_392 v255
  let v257 : BitVec 32 := Scalar.minsi c2048_i32 v256
  let c15_i32 : BitVec 32 := 15#32
  let v258 : BitVec 32 := Scalar.addi v257 c15_i32
  let c16_i32_393 : BitVec 32 := 16#32
  let v259 : BitVec 32 := Scalar.divsi v258 c16_i32_393
  let c16_i32_386 : BitVec 32 := 16#32
  let c0_i32_387 : BitVec 32 := 0#32
  let v244 : BitVec 1 := Scalar.cmpi .eq c16_i32_386 c0_i32_387
  let c1_i32_388 : BitVec 32 := 1#32
  let v245 : BitVec 32 := Scalar.select v244 c1_i32_388 c16_i32_386
  let v246 : BitVec 32 := Scalar.remsi v226 v245
  let c0_i32_390 : BitVec 32 := 0#32
  let v248 : BitVec 1 := Scalar.cmpi .slt v246 c0_i32_390
  let c0_i32_391 : BitVec 32 := 0#32
  let v249 : BitVec 1 := Scalar.cmpi .slt v245 c0_i32_391
  let v250 : BitVec 1 := Scalar.xori v248 v249
  let c0_i32_389 : BitVec 32 := 0#32
  let v247 : BitVec 1 := Scalar.cmpi .ne v246 c0_i32_389
  let v251 : BitVec 1 := Scalar.andi v250 v247
  let v252 : BitVec 32 := Scalar.addi v246 v245
  let v253 : BitVec 32 := Scalar.select v251 v252 v246
  let c8_i32_394 : BitVec 32 := 8#32
  let v260 : BitVec 32 := Scalar.muli v253 c8_i32_394
  let v261 : BitVec 32 := Scalar.subi v259 v260
  let v262 : BitVec 32 := Scalar.maxsi c0_i32_395 v261
  let v263 : BitVec 32 := Scalar.minsi c8_i32_396 v262
  let v264 : BitVec 32 := Scalar.subi v263 c0_i32_398
  let c1_i32_399 : BitVec 32 := 1#32
  let v266 : BitVec 32 := Scalar.divsi v264 c1_i32_399
  let v267 : BitVec 32 := Scalar.muli v266 c1_i32_399
  let v268 : BitVec 32 := Scalar.addi c0_i32_398 v267
  let v265 : BitVec 32 := Scalar.addi c0_i32_398 v264
  let c1_i32_401 : BitVec 32 := 1#32
  ⟨v268, v265, c1_i32_401⟩
def k0_off22 (v226 : BitVec 32) (v255 : BitVec 32) (k0_t9 : Fin (k0_t9_loop v226 v255).trips) : Fin 2 → Nat :=
  let c0_i32_380 : BitVec 32 := 0#32
  let v228 : BitVec 1 := Scalar.cmpi .sgt v226 c0_i32_380
  let v229 : BitVec 32 := Scalar.extui v228
  let c0_i32_381 : BitVec 32 := 0#32
  let v230 : BitVec 1 := Scalar.cmpi .slt v226 c0_i32_381
  let v231 : BitVec 32 := Scalar.extui v230
  let v232 : BitVec 32 := Scalar.subi v229 v231
  let c16_i32 : BitVec 32 := 16#32
  let c0_i32_382 : BitVec 32 := 0#32
  let v233 : BitVec 1 := Scalar.cmpi .sgt c16_i32 c0_i32_382
  let v234 : BitVec 32 := Scalar.extui v233
  let c0_i32_383 : BitVec 32 := 0#32
  let v235 : BitVec 1 := Scalar.cmpi .slt c16_i32 c0_i32_383
  let v236 : BitVec 32 := Scalar.extui v235
  let v237 : BitVec 32 := Scalar.subi v234 v236
  let v238 : BitVec 1 := Scalar.cmpi .ne v232 v237
  let v239 : BitVec 32 := Scalar.remsi v226 c16_i32
  let c0_i32_384 : BitVec 32 := 0#32
  let v240 : BitVec 1 := Scalar.cmpi .ne v239 c0_i32_384
  let v241 : BitVec 1 := Scalar.andi v238 v240
  let v227 : BitVec 32 := Scalar.divsi v226 c16_i32
  let c1_i32_385 : BitVec 32 := 1#32
  let v242 : BitVec 32 := Scalar.subi v227 c1_i32_385
  let v243 : BitVec 32 := Scalar.select v241 v242 v227
  let v314 : Index := Scalar.indexCast v243
  let c16_i32_386 : BitVec 32 := 16#32
  let c0_i32_387 : BitVec 32 := 0#32
  let v244 : BitVec 1 := Scalar.cmpi .eq c16_i32_386 c0_i32_387
  let c1_i32_388 : BitVec 32 := 1#32
  let v245 : BitVec 32 := Scalar.select v244 c1_i32_388 c16_i32_386
  let v246 : BitVec 32 := Scalar.remsi v226 v245
  let c0_i32_390 : BitVec 32 := 0#32
  let v248 : BitVec 1 := Scalar.cmpi .slt v246 c0_i32_390
  let c0_i32_391 : BitVec 32 := 0#32
  let v249 : BitVec 1 := Scalar.cmpi .slt v245 c0_i32_391
  let v250 : BitVec 1 := Scalar.xori v248 v249
  let c0_i32_389 : BitVec 32 := 0#32
  let v247 : BitVec 1 := Scalar.cmpi .ne v246 c0_i32_389
  let v251 : BitVec 1 := Scalar.andi v250 v247
  let v252 : BitVec 32 := Scalar.addi v246 v245
  let v253 : BitVec 32 := Scalar.select v251 v252 v246
  let c8_i32_428 : BitVec 32 := 8#32
  let v312 : BitVec 32 := Scalar.muli v253 c8_i32_428
  let c0_i32_398 : BitVec 32 := 0#32
  let c8_i32_396 : BitVec 32 := 8#32
  let c0_i32_395 : BitVec 32 := 0#32
  let c2048_i32 : BitVec 32 := 2048#32
  let c0_i32_392 : BitVec 32 := 0#32
  let v256 : BitVec 32 := Scalar.maxsi c0_i32_392 v255
  let v257 : BitVec 32 := Scalar.minsi c2048_i32 v256
  let c15_i32 : BitVec 32 := 15#32
  let v258 : BitVec 32 := Scalar.addi v257 c15_i32
  let c16_i32_393 : BitVec 32 := 16#32
  let v259 : BitVec 32 := Scalar.divsi v258 c16_i32_393
  let c8_i32_394 : BitVec 32 := 8#32
  let v260 : BitVec 32 := Scalar.muli v253 c8_i32_394
  let v261 : BitVec 32 := Scalar.subi v259 v260
  let v262 : BitVec 32 := Scalar.maxsi c0_i32_395 v261
  let v263 : BitVec 32 := Scalar.minsi c8_i32_396 v262
  let v264 : BitVec 32 := Scalar.subi v263 c0_i32_398
  let c1_i32_399 : BitVec 32 := 1#32
  let v266 : BitVec 32 := Scalar.divsi v264 c1_i32_399
  let v267 : BitVec 32 := Scalar.muli v266 c1_i32_399
  let v268 : BitVec 32 := Scalar.addi c0_i32_398 v267
  let c1_i32_401 : BitVec 32 := 1#32
  let arg18 : BitVec 32 := Scf.iv v268 c1_i32_401 k0_t9
  let v313 : BitVec 32 := Scalar.addi v312 arg18
  let v315 : Index := Scalar.indexCast v313
  ![v314.toNat, v315.toNat]
def k0_off23 (v226 : BitVec 32) (v255 : BitVec 32) (k0_t9 : Fin (k0_t9_loop v226 v255).trips) : Fin 5 → Nat :=
  let c0_i32_429 : BitVec 32 := 0#32
  let c1_i32_430 : BitVec 32 := 1#32
  let c0_i32_398 : BitVec 32 := 0#32
  let c8_i32_396 : BitVec 32 := 8#32
  let c0_i32_395 : BitVec 32 := 0#32
  let c2048_i32 : BitVec 32 := 2048#32
  let c0_i32_392 : BitVec 32 := 0#32
  let v256 : BitVec 32 := Scalar.maxsi c0_i32_392 v255
  let v257 : BitVec 32 := Scalar.minsi c2048_i32 v256
  let c15_i32 : BitVec 32 := 15#32
  let v258 : BitVec 32 := Scalar.addi v257 c15_i32
  let c16_i32_393 : BitVec 32 := 16#32
  let v259 : BitVec 32 := Scalar.divsi v258 c16_i32_393
  let c16_i32_386 : BitVec 32 := 16#32
  let c0_i32_387 : BitVec 32 := 0#32
  let v244 : BitVec 1 := Scalar.cmpi .eq c16_i32_386 c0_i32_387
  let c1_i32_388 : BitVec 32 := 1#32
  let v245 : BitVec 32 := Scalar.select v244 c1_i32_388 c16_i32_386
  let v246 : BitVec 32 := Scalar.remsi v226 v245
  let c0_i32_390 : BitVec 32 := 0#32
  let v248 : BitVec 1 := Scalar.cmpi .slt v246 c0_i32_390
  let c0_i32_391 : BitVec 32 := 0#32
  let v249 : BitVec 1 := Scalar.cmpi .slt v245 c0_i32_391
  let v250 : BitVec 1 := Scalar.xori v248 v249
  let c0_i32_389 : BitVec 32 := 0#32
  let v247 : BitVec 1 := Scalar.cmpi .ne v246 c0_i32_389
  let v251 : BitVec 1 := Scalar.andi v250 v247
  let v252 : BitVec 32 := Scalar.addi v246 v245
  let v253 : BitVec 32 := Scalar.select v251 v252 v246
  let c8_i32_394 : BitVec 32 := 8#32
  let v260 : BitVec 32 := Scalar.muli v253 c8_i32_394
  let v261 : BitVec 32 := Scalar.subi v259 v260
  let v262 : BitVec 32 := Scalar.maxsi c0_i32_395 v261
  let v263 : BitVec 32 := Scalar.minsi c8_i32_396 v262
  let v264 : BitVec 32 := Scalar.subi v263 c0_i32_398
  let c1_i32_399 : BitVec 32 := 1#32
  let v266 : BitVec 32 := Scalar.divsi v264 c1_i32_399
  let v267 : BitVec 32 := Scalar.muli v266 c1_i32_399
  let v268 : BitVec 32 := Scalar.addi c0_i32_398 v267
  let c1_i32_401 : BitVec 32 := 1#32
  let arg18 : BitVec 32 := Scf.iv v268 c1_i32_401 k0_t9
  let c0_i32_433 : BitVec 32 := 0#32
  let c0_i32_434 : BitVec 32 := 0#32
  ![0, 1, arg18.toNat, 0, 0]
def k0_off24 (v316 : BitVec 32) : Fin 3 → Nat :=
  let c0_i32_435 : BitVec 32 := 0#32
  let c0_i32_436 : BitVec 32 := 0#32
  ![v316.toNat, 0, 0]

def k0_chk13 (v1 : BitVec 32) (v316 : BitVec 32) : Prop :=
  (∀ (k0_h2 : k0_cond2 v1 = 1#1), ∀ a, (k0_off24 v316) a + S1x1728x128.size a ≤ S1280x1728x128.size a) ∧
  (∀ (k0_h2 : k0_cond2 v1 = 1#1), ∀ (hinb : ∀ a, (k0_off24 v316) a + S1x1728x128.size a ≤ S1280x1728x128.size a), (Rect.unit (s := S1280x1728x128) (k0_off24 v316) S1x1728x128.size hinb).WholeWords (EltTy.packing .fp8e4m3))
theorem k0_off24_inb : ∀ (v1 : BitVec 32) (v316 : BitVec 32) (k0_hw13 : k0_chk13 v1 v316), ∀ (k0_h2 : k0_cond2 v1 = 1#1), ∀ a, (k0_off24 v316) a + S1x1728x128.size a ≤ S1280x1728x128.size a := fun v1 v316 k0_hw13 k0_h2 => k0_hw13.1 k0_h2
theorem k0_off24_wordsfp8e4m3 : ∀ (v1 : BitVec 32) (v316 : BitVec 32) (k0_hw13 : k0_chk13 v1 v316), ∀ (k0_h2 : k0_cond2 v1 = 1#1), (Rect.unit (s := S1280x1728x128) (k0_off24 v316) S1x1728x128.size (k0_off24_inb v1 v316 k0_hw13 k0_h2)).WholeWords (EltTy.packing .fp8e4m3) := fun v1 v316 k0_hw13 k0_h2 => k0_hw13.2 k0_h2 (k0_off24_inb v1 v316 k0_hw13 k0_h2)

def k0_chk11 (v1 : BitVec 32) (v226 : BitVec 32) (v255 : BitVec 32) : Prop :=
  (∀ (k0_h2 : k0_cond2 v1 = 1#1), (k0_t8_loop v226 v255).OK) ∧
  (∀ k0_t8 : Fin (k0_t8_loop v226 v255).trips, ∀ (k0_h2 : k0_cond2 v1 = 1#1), ∀ a, (k0_off19 v226 v255 k0_t8) a + S1x1.size a ≤ S8x128.size a) ∧
  (∀ k0_t8 : Fin (k0_t8_loop v226 v255).trips, ∀ (k0_h2 : k0_cond2 v1 = 1#1), ∀ a, (k0_off20 v226 v255 k0_t8) a + S1x1x1x1728x128.size a ≤ S2x2x8x1728x128.size a) ∧
  (∀ k0_t8 : Fin (k0_t8_loop v226 v255).trips, ∀ (k0_h2 : k0_cond2 v1 = 1#1), ∀ (hinb : ∀ a, (k0_off20 v226 v255 k0_t8) a + S1x1x1x1728x128.size a ≤ S2x2x8x1728x128.size a), (Rect.unit (s := S2x2x8x1728x128) (k0_off20 v226 v255 k0_t8) S1x1x1x1728x128.size hinb).WholeWords (EltTy.packing .fp8e4m3)) ∧
  (∀ (k0_h2 : k0_cond2 v1 = 1#1), (k0_t9_loop v226 v255).OK) ∧
  (∀ k0_t9 : Fin (k0_t9_loop v226 v255).trips, ∀ (k0_h2 : k0_cond2 v1 = 1#1), ∀ a, (k0_off22 v226 v255 k0_t9) a + S1x1.size a ≤ S8x128.size a) ∧
  (∀ k0_t9 : Fin (k0_t9_loop v226 v255).trips, ∀ (k0_h2 : k0_cond2 v1 = 1#1), ∀ a, (k0_off23 v226 v255 k0_t9) a + S1x1x1x1728x128.size a ≤ S2x2x8x1728x128.size a) ∧
  (∀ k0_t9 : Fin (k0_t9_loop v226 v255).trips, ∀ (k0_h2 : k0_cond2 v1 = 1#1), ∀ (hinb : ∀ a, (k0_off23 v226 v255 k0_t9) a + S1x1x1x1728x128.size a ≤ S2x2x8x1728x128.size a), (Rect.unit (s := S2x2x8x1728x128) (k0_off23 v226 v255 k0_t9) S1x1x1x1728x128.size hinb).WholeWords (EltTy.packing .fp8e4m3))
theorem k0_t8_ok : ∀ (v1 : BitVec 32) (v226 : BitVec 32) (v255 : BitVec 32) (k0_hw11 : k0_chk11 v1 v226 v255), ∀ (k0_h2 : k0_cond2 v1 = 1#1), (k0_t8_loop v226 v255).OK := fun v1 v226 v255 k0_hw11 k0_h2 => k0_hw11.1 k0_h2
theorem k0_off19_inb : ∀ (v1 : BitVec 32) (v226 : BitVec 32) (v255 : BitVec 32) (k0_hw11 : k0_chk11 v1 v226 v255) (k0_t8 : Fin (k0_t8_loop v226 v255).trips), ∀ (k0_h2 : k0_cond2 v1 = 1#1), ∀ a, (k0_off19 v226 v255 k0_t8) a + S1x1.size a ≤ S8x128.size a := fun v1 v226 v255 k0_hw11 k0_t8 k0_h2 => k0_hw11.2.1 k0_t8 k0_h2
theorem k0_off20_inb : ∀ (v1 : BitVec 32) (v226 : BitVec 32) (v255 : BitVec 32) (k0_hw11 : k0_chk11 v1 v226 v255) (k0_t8 : Fin (k0_t8_loop v226 v255).trips), ∀ (k0_h2 : k0_cond2 v1 = 1#1), ∀ a, (k0_off20 v226 v255 k0_t8) a + S1x1x1x1728x128.size a ≤ S2x2x8x1728x128.size a := fun v1 v226 v255 k0_hw11 k0_t8 k0_h2 => k0_hw11.2.2.1 k0_t8 k0_h2
theorem k0_off20_wordsfp8e4m3 : ∀ (v1 : BitVec 32) (v226 : BitVec 32) (v255 : BitVec 32) (k0_hw11 : k0_chk11 v1 v226 v255) (k0_t8 : Fin (k0_t8_loop v226 v255).trips), ∀ (k0_h2 : k0_cond2 v1 = 1#1), (Rect.unit (s := S2x2x8x1728x128) (k0_off20 v226 v255 k0_t8) S1x1x1x1728x128.size (k0_off20_inb v1 v226 v255 k0_hw11 k0_t8 k0_h2)).WholeWords (EltTy.packing .fp8e4m3) := fun v1 v226 v255 k0_hw11 k0_t8 k0_h2 => k0_hw11.2.2.2.1 k0_t8 k0_h2 (k0_off20_inb v1 v226 v255 k0_hw11 k0_t8 k0_h2)
theorem k0_t9_ok : ∀ (v1 : BitVec 32) (v226 : BitVec 32) (v255 : BitVec 32) (k0_hw11 : k0_chk11 v1 v226 v255), ∀ (k0_h2 : k0_cond2 v1 = 1#1), (k0_t9_loop v226 v255).OK := fun v1 v226 v255 k0_hw11 k0_h2 => k0_hw11.2.2.2.2.1 k0_h2
theorem k0_off22_inb : ∀ (v1 : BitVec 32) (v226 : BitVec 32) (v255 : BitVec 32) (k0_hw11 : k0_chk11 v1 v226 v255) (k0_t9 : Fin (k0_t9_loop v226 v255).trips), ∀ (k0_h2 : k0_cond2 v1 = 1#1), ∀ a, (k0_off22 v226 v255 k0_t9) a + S1x1.size a ≤ S8x128.size a := fun v1 v226 v255 k0_hw11 k0_t9 k0_h2 => k0_hw11.2.2.2.2.2.1 k0_t9 k0_h2
theorem k0_off23_inb : ∀ (v1 : BitVec 32) (v226 : BitVec 32) (v255 : BitVec 32) (k0_hw11 : k0_chk11 v1 v226 v255) (k0_t9 : Fin (k0_t9_loop v226 v255).trips), ∀ (k0_h2 : k0_cond2 v1 = 1#1), ∀ a, (k0_off23 v226 v255 k0_t9) a + S1x1x1x1728x128.size a ≤ S2x2x8x1728x128.size a := fun v1 v226 v255 k0_hw11 k0_t9 k0_h2 => k0_hw11.2.2.2.2.2.2.1 k0_t9 k0_h2
theorem k0_off23_wordsfp8e4m3 : ∀ (v1 : BitVec 32) (v226 : BitVec 32) (v255 : BitVec 32) (k0_hw11 : k0_chk11 v1 v226 v255) (k0_t9 : Fin (k0_t9_loop v226 v255).trips), ∀ (k0_h2 : k0_cond2 v1 = 1#1), (Rect.unit (s := S2x2x8x1728x128) (k0_off23 v226 v255 k0_t9) S1x1x1x1728x128.size (k0_off23_inb v1 v226 v255 k0_hw11 k0_t9 k0_h2)).WholeWords (EltTy.packing .fp8e4m3) := fun v1 v226 v255 k0_hw11 k0_t9 k0_h2 => k0_hw11.2.2.2.2.2.2.2 k0_t9 k0_h2 (k0_off23_inb v1 v226 v255 k0_hw11 k0_t9 k0_h2)

def k0_off25 (v269 : BitVec 32) : Fin 1 → Nat :=
  let c0_i32_404 : BitVec 32 := 0#32
  let v271 : BitVec 1 := Scalar.cmpi .sgt v269 c0_i32_404
  let v272 : BitVec 32 := Scalar.extui v271
  let c0_i32_405 : BitVec 32 := 0#32
  let v273 : BitVec 1 := Scalar.cmpi .slt v269 c0_i32_405
  let v274 : BitVec 32 := Scalar.extui v273
  let v275 : BitVec 32 := Scalar.subi v272 v274
  let c16_i32_403 : BitVec 32 := 16#32
  let c0_i32_406 : BitVec 32 := 0#32
  let v276 : BitVec 1 := Scalar.cmpi .sgt c16_i32_403 c0_i32_406
  let v277 : BitVec 32 := Scalar.extui v276
  let c0_i32_407 : BitVec 32 := 0#32
  let v278 : BitVec 1 := Scalar.cmpi .slt c16_i32_403 c0_i32_407
  let v279 : BitVec 32 := Scalar.extui v278
  let v280 : BitVec 32 := Scalar.subi v277 v279
  let v281 : BitVec 1 := Scalar.cmpi .ne v275 v280
  let v282 : BitVec 32 := Scalar.remsi v269 c16_i32_403
  let c0_i32_408 : BitVec 32 := 0#32
  let v283 : BitVec 1 := Scalar.cmpi .ne v282 c0_i32_408
  let v284 : BitVec 1 := Scalar.andi v281 v283
  let v270 : BitVec 32 := Scalar.divsi v269 c16_i32_403
  let c1_i32_409 : BitVec 32 := 1#32
  let v285 : BitVec 32 := Scalar.subi v270 c1_i32_409
  let v286 : BitVec 32 := Scalar.select v284 v285 v270
  let v297 : Index := Scalar.indexCast v286
  ![v297.toNat]

def k0_chk14 (v1 : BitVec 32) (v269 : BitVec 32) : Prop :=
  (∀ (k0_h2 : k0_cond2 v1 = 1#1), ∀ a, (k0_off25 v269) a + S1.size a ≤ S8.size a)
theorem k0_off25_inb : ∀ (v1 : BitVec 32) (v269 : BitVec 32) (k0_hw14 : k0_chk14 v1 v269), ∀ (k0_h2 : k0_cond2 v1 = 1#1), ∀ a, (k0_off25 v269) a + S1.size a ≤ S8.size a := fun v1 v269 k0_hw14 k0_h2 => k0_hw14 k0_h2

@[reducible] def k0_t10_loop (v269 : BitVec 32) (v298 : BitVec 32) : Scf.Loop 32 :=
  let c0_i32_424 : BitVec 32 := 0#32
  let c8_i32_422 : BitVec 32 := 8#32
  let c0_i32_421 : BitVec 32 := 0#32
  let c2048_i32_417 : BitVec 32 := 2048#32
  let c0_i32_416 : BitVec 32 := 0#32
  let v299 : BitVec 32 := Scalar.maxsi c0_i32_416 v298
  let v300 : BitVec 32 := Scalar.minsi c2048_i32_417 v299
  let c15_i32_418 : BitVec 32 := 15#32
  let v301 : BitVec 32 := Scalar.addi v300 c15_i32_418
  let c16_i32_419 : BitVec 32 := 16#32
  let v302 : BitVec 32 := Scalar.divsi v301 c16_i32_419
  let c16_i32_410 : BitVec 32 := 16#32
  let c0_i32_411 : BitVec 32 := 0#32
  let v287 : BitVec 1 := Scalar.cmpi .eq c16_i32_410 c0_i32_411
  let c1_i32_412 : BitVec 32 := 1#32
  let v288 : BitVec 32 := Scalar.select v287 c1_i32_412 c16_i32_410
  let v289 : BitVec 32 := Scalar.remsi v269 v288
  let c0_i32_414 : BitVec 32 := 0#32
  let v291 : BitVec 1 := Scalar.cmpi .slt v289 c0_i32_414
  let c0_i32_415 : BitVec 32 := 0#32
  let v292 : BitVec 1 := Scalar.cmpi .slt v288 c0_i32_415
  let v293 : BitVec 1 := Scalar.xori v291 v292
  let c0_i32_413 : BitVec 32 := 0#32
  let v290 : BitVec 1 := Scalar.cmpi .ne v289 c0_i32_413
  let v294 : BitVec 1 := Scalar.andi v293 v290
  let v295 : BitVec 32 := Scalar.addi v289 v288
  let v296 : BitVec 32 := Scalar.select v294 v295 v289
  let c8_i32_420 : BitVec 32 := 8#32
  let v303 : BitVec 32 := Scalar.muli v296 c8_i32_420
  let v304 : BitVec 32 := Scalar.subi v302 v303
  let v305 : BitVec 32 := Scalar.maxsi c0_i32_421 v304
  let v306 : BitVec 32 := Scalar.minsi c8_i32_422 v305
  let v307 : BitVec 32 := Scalar.subi v306 c0_i32_424
  let c1_i32_425 : BitVec 32 := 1#32
  let v309 : BitVec 32 := Scalar.divsi v307 c1_i32_425
  let v310 : BitVec 32 := Scalar.muli v309 c1_i32_425
  let v311 : BitVec 32 := Scalar.addi c0_i32_424 v310
  let c1_i32_426 : BitVec 32 := 1#32
  ⟨c0_i32_424, v311, c1_i32_426⟩

def k0_off26 (v269 : BitVec 32) (v298 : BitVec 32) (k0_t10 : Fin (k0_t10_loop v269 v298).trips) : Fin 2 → Nat :=
  let c0_i32_404 : BitVec 32 := 0#32
  let v271 : BitVec 1 := Scalar.cmpi .sgt v269 c0_i32_404
  let v272 : BitVec 32 := Scalar.extui v271
  let c0_i32_405 : BitVec 32 := 0#32
  let v273 : BitVec 1 := Scalar.cmpi .slt v269 c0_i32_405
  let v274 : BitVec 32 := Scalar.extui v273
  let v275 : BitVec 32 := Scalar.subi v272 v274
  let c16_i32_403 : BitVec 32 := 16#32
  let c0_i32_406 : BitVec 32 := 0#32
  let v276 : BitVec 1 := Scalar.cmpi .sgt c16_i32_403 c0_i32_406
  let v277 : BitVec 32 := Scalar.extui v276
  let c0_i32_407 : BitVec 32 := 0#32
  let v278 : BitVec 1 := Scalar.cmpi .slt c16_i32_403 c0_i32_407
  let v279 : BitVec 32 := Scalar.extui v278
  let v280 : BitVec 32 := Scalar.subi v277 v279
  let v281 : BitVec 1 := Scalar.cmpi .ne v275 v280
  let v282 : BitVec 32 := Scalar.remsi v269 c16_i32_403
  let c0_i32_408 : BitVec 32 := 0#32
  let v283 : BitVec 1 := Scalar.cmpi .ne v282 c0_i32_408
  let v284 : BitVec 1 := Scalar.andi v281 v283
  let v270 : BitVec 32 := Scalar.divsi v269 c16_i32_403
  let c1_i32_409 : BitVec 32 := 1#32
  let v285 : BitVec 32 := Scalar.subi v270 c1_i32_409
  let v286 : BitVec 32 := Scalar.select v284 v285 v270
  let v314 : Index := Scalar.indexCast v286
  let c16_i32_410 : BitVec 32 := 16#32
  let c0_i32_411 : BitVec 32 := 0#32
  let v287 : BitVec 1 := Scalar.cmpi .eq c16_i32_410 c0_i32_411
  let c1_i32_412 : BitVec 32 := 1#32
  let v288 : BitVec 32 := Scalar.select v287 c1_i32_412 c16_i32_410
  let v289 : BitVec 32 := Scalar.remsi v269 v288
  let c0_i32_414 : BitVec 32 := 0#32
  let v291 : BitVec 1 := Scalar.cmpi .slt v289 c0_i32_414
  let c0_i32_415 : BitVec 32 := 0#32
  let v292 : BitVec 1 := Scalar.cmpi .slt v288 c0_i32_415
  let v293 : BitVec 1 := Scalar.xori v291 v292
  let c0_i32_413 : BitVec 32 := 0#32
  let v290 : BitVec 1 := Scalar.cmpi .ne v289 c0_i32_413
  let v294 : BitVec 1 := Scalar.andi v293 v290
  let v295 : BitVec 32 := Scalar.addi v289 v288
  let v296 : BitVec 32 := Scalar.select v294 v295 v289
  let c8_i32_428 : BitVec 32 := 8#32
  let v312 : BitVec 32 := Scalar.muli v296 c8_i32_428
  let c0_i32_424 : BitVec 32 := 0#32
  let c1_i32_426 : BitVec 32 := 1#32
  let arg18 : BitVec 32 := Scf.iv c0_i32_424 c1_i32_426 k0_t10
  let v313 : BitVec 32 := Scalar.addi v312 arg18
  let v315 : Index := Scalar.indexCast v313
  ![v314.toNat, v315.toNat]
def k0_off27 (v269 : BitVec 32) (v298 : BitVec 32) (k0_t10 : Fin (k0_t10_loop v269 v298).trips) : Fin 5 → Nat :=
  let c1_i32_429 : BitVec 32 := 1#32
  let c1_i32_430 : BitVec 32 := 1#32
  let c0_i32_424 : BitVec 32 := 0#32
  let c1_i32_426 : BitVec 32 := 1#32
  let arg18 : BitVec 32 := Scf.iv c0_i32_424 c1_i32_426 k0_t10
  let c0_i32_433 : BitVec 32 := 0#32
  let c0_i32_434 : BitVec 32 := 0#32
  ![1, 1, arg18.toNat, 0, 0]
def k0_off28 (v316 : BitVec 32) : Fin 3 → Nat :=
  let c0_i32_435 : BitVec 32 := 0#32
  let c0_i32_436 : BitVec 32 := 0#32
  ![v316.toNat, 0, 0]

def k0_chk16 (v1 : BitVec 32) (v316 : BitVec 32) : Prop :=
  (∀ (k0_h2 : k0_cond2 v1 = 1#1), ∀ a, (k0_off28 v316) a + S1x1728x128.size a ≤ S1280x1728x128.size a) ∧
  (∀ (k0_h2 : k0_cond2 v1 = 1#1), ∀ (hinb : ∀ a, (k0_off28 v316) a + S1x1728x128.size a ≤ S1280x1728x128.size a), (Rect.unit (s := S1280x1728x128) (k0_off28 v316) S1x1728x128.size hinb).WholeWords (EltTy.packing .fp8e4m3))
theorem k0_off28_inb : ∀ (v1 : BitVec 32) (v316 : BitVec 32) (k0_hw16 : k0_chk16 v1 v316), ∀ (k0_h2 : k0_cond2 v1 = 1#1), ∀ a, (k0_off28 v316) a + S1x1728x128.size a ≤ S1280x1728x128.size a := fun v1 v316 k0_hw16 k0_h2 => k0_hw16.1 k0_h2
theorem k0_off28_wordsfp8e4m3 : ∀ (v1 : BitVec 32) (v316 : BitVec 32) (k0_hw16 : k0_chk16 v1 v316), ∀ (k0_h2 : k0_cond2 v1 = 1#1), (Rect.unit (s := S1280x1728x128) (k0_off28 v316) S1x1728x128.size (k0_off28_inb v1 v316 k0_hw16 k0_h2)).WholeWords (EltTy.packing .fp8e4m3) := fun v1 v316 k0_hw16 k0_h2 => k0_hw16.2 k0_h2 (k0_off28_inb v1 v316 k0_hw16 k0_h2)

@[reducible] def k0_t11_loop (v269 : BitVec 32) (v298 : BitVec 32) : Scf.Loop 32 :=
  let c0_i32_424 : BitVec 32 := 0#32
  let c8_i32_422 : BitVec 32 := 8#32
  let c0_i32_421 : BitVec 32 := 0#32
  let c2048_i32_417 : BitVec 32 := 2048#32
  let c0_i32_416 : BitVec 32 := 0#32
  let v299 : BitVec 32 := Scalar.maxsi c0_i32_416 v298
  let v300 : BitVec 32 := Scalar.minsi c2048_i32_417 v299
  let c15_i32_418 : BitVec 32 := 15#32
  let v301 : BitVec 32 := Scalar.addi v300 c15_i32_418
  let c16_i32_419 : BitVec 32 := 16#32
  let v302 : BitVec 32 := Scalar.divsi v301 c16_i32_419
  let c16_i32_410 : BitVec 32 := 16#32
  let c0_i32_411 : BitVec 32 := 0#32
  let v287 : BitVec 1 := Scalar.cmpi .eq c16_i32_410 c0_i32_411
  let c1_i32_412 : BitVec 32 := 1#32
  let v288 : BitVec 32 := Scalar.select v287 c1_i32_412 c16_i32_410
  let v289 : BitVec 32 := Scalar.remsi v269 v288
  let c0_i32_414 : BitVec 32 := 0#32
  let v291 : BitVec 1 := Scalar.cmpi .slt v289 c0_i32_414
  let c0_i32_415 : BitVec 32 := 0#32
  let v292 : BitVec 1 := Scalar.cmpi .slt v288 c0_i32_415
  let v293 : BitVec 1 := Scalar.xori v291 v292
  let c0_i32_413 : BitVec 32 := 0#32
  let v290 : BitVec 1 := Scalar.cmpi .ne v289 c0_i32_413
  let v294 : BitVec 1 := Scalar.andi v293 v290
  let v295 : BitVec 32 := Scalar.addi v289 v288
  let v296 : BitVec 32 := Scalar.select v294 v295 v289
  let c8_i32_420 : BitVec 32 := 8#32
  let v303 : BitVec 32 := Scalar.muli v296 c8_i32_420
  let v304 : BitVec 32 := Scalar.subi v302 v303
  let v305 : BitVec 32 := Scalar.maxsi c0_i32_421 v304
  let v306 : BitVec 32 := Scalar.minsi c8_i32_422 v305
  let v307 : BitVec 32 := Scalar.subi v306 c0_i32_424
  let c1_i32_425 : BitVec 32 := 1#32
  let v309 : BitVec 32 := Scalar.divsi v307 c1_i32_425
  let v310 : BitVec 32 := Scalar.muli v309 c1_i32_425
  let v311 : BitVec 32 := Scalar.addi c0_i32_424 v310
  let v308 : BitVec 32 := Scalar.addi c0_i32_424 v307
  let c1_i32_427 : BitVec 32 := 1#32
  ⟨v311, v308, c1_i32_427⟩
def k0_off29 (v269 : BitVec 32) (v298 : BitVec 32) (k0_t11 : Fin (k0_t11_loop v269 v298).trips) : Fin 2 → Nat :=
  let c0_i32_404 : BitVec 32 := 0#32
  let v271 : BitVec 1 := Scalar.cmpi .sgt v269 c0_i32_404
  let v272 : BitVec 32 := Scalar.extui v271
  let c0_i32_405 : BitVec 32 := 0#32
  let v273 : BitVec 1 := Scalar.cmpi .slt v269 c0_i32_405
  let v274 : BitVec 32 := Scalar.extui v273
  let v275 : BitVec 32 := Scalar.subi v272 v274
  let c16_i32_403 : BitVec 32 := 16#32
  let c0_i32_406 : BitVec 32 := 0#32
  let v276 : BitVec 1 := Scalar.cmpi .sgt c16_i32_403 c0_i32_406
  let v277 : BitVec 32 := Scalar.extui v276
  let c0_i32_407 : BitVec 32 := 0#32
  let v278 : BitVec 1 := Scalar.cmpi .slt c16_i32_403 c0_i32_407
  let v279 : BitVec 32 := Scalar.extui v278
  let v280 : BitVec 32 := Scalar.subi v277 v279
  let v281 : BitVec 1 := Scalar.cmpi .ne v275 v280
  let v282 : BitVec 32 := Scalar.remsi v269 c16_i32_403
  let c0_i32_408 : BitVec 32 := 0#32
  let v283 : BitVec 1 := Scalar.cmpi .ne v282 c0_i32_408
  let v284 : BitVec 1 := Scalar.andi v281 v283
  let v270 : BitVec 32 := Scalar.divsi v269 c16_i32_403
  let c1_i32_409 : BitVec 32 := 1#32
  let v285 : BitVec 32 := Scalar.subi v270 c1_i32_409
  let v286 : BitVec 32 := Scalar.select v284 v285 v270
  let v314 : Index := Scalar.indexCast v286
  let c16_i32_410 : BitVec 32 := 16#32
  let c0_i32_411 : BitVec 32 := 0#32
  let v287 : BitVec 1 := Scalar.cmpi .eq c16_i32_410 c0_i32_411
  let c1_i32_412 : BitVec 32 := 1#32
  let v288 : BitVec 32 := Scalar.select v287 c1_i32_412 c16_i32_410
  let v289 : BitVec 32 := Scalar.remsi v269 v288
  let c0_i32_414 : BitVec 32 := 0#32
  let v291 : BitVec 1 := Scalar.cmpi .slt v289 c0_i32_414
  let c0_i32_415 : BitVec 32 := 0#32
  let v292 : BitVec 1 := Scalar.cmpi .slt v288 c0_i32_415
  let v293 : BitVec 1 := Scalar.xori v291 v292
  let c0_i32_413 : BitVec 32 := 0#32
  let v290 : BitVec 1 := Scalar.cmpi .ne v289 c0_i32_413
  let v294 : BitVec 1 := Scalar.andi v293 v290
  let v295 : BitVec 32 := Scalar.addi v289 v288
  let v296 : BitVec 32 := Scalar.select v294 v295 v289
  let c8_i32_428 : BitVec 32 := 8#32
  let v312 : BitVec 32 := Scalar.muli v296 c8_i32_428
  let c0_i32_424 : BitVec 32 := 0#32
  let c8_i32_422 : BitVec 32 := 8#32
  let c0_i32_421 : BitVec 32 := 0#32
  let c2048_i32_417 : BitVec 32 := 2048#32
  let c0_i32_416 : BitVec 32 := 0#32
  let v299 : BitVec 32 := Scalar.maxsi c0_i32_416 v298
  let v300 : BitVec 32 := Scalar.minsi c2048_i32_417 v299
  let c15_i32_418 : BitVec 32 := 15#32
  let v301 : BitVec 32 := Scalar.addi v300 c15_i32_418
  let c16_i32_419 : BitVec 32 := 16#32
  let v302 : BitVec 32 := Scalar.divsi v301 c16_i32_419
  let c8_i32_420 : BitVec 32 := 8#32
  let v303 : BitVec 32 := Scalar.muli v296 c8_i32_420
  let v304 : BitVec 32 := Scalar.subi v302 v303
  let v305 : BitVec 32 := Scalar.maxsi c0_i32_421 v304
  let v306 : BitVec 32 := Scalar.minsi c8_i32_422 v305
  let v307 : BitVec 32 := Scalar.subi v306 c0_i32_424
  let c1_i32_425 : BitVec 32 := 1#32
  let v309 : BitVec 32 := Scalar.divsi v307 c1_i32_425
  let v310 : BitVec 32 := Scalar.muli v309 c1_i32_425
  let v311 : BitVec 32 := Scalar.addi c0_i32_424 v310
  let c1_i32_427 : BitVec 32 := 1#32
  let arg18 : BitVec 32 := Scf.iv v311 c1_i32_427 k0_t11
  let v313 : BitVec 32 := Scalar.addi v312 arg18
  let v315 : Index := Scalar.indexCast v313
  ![v314.toNat, v315.toNat]
def k0_off30 (v269 : BitVec 32) (v298 : BitVec 32) (k0_t11 : Fin (k0_t11_loop v269 v298).trips) : Fin 5 → Nat :=
  let c1_i32_429 : BitVec 32 := 1#32
  let c1_i32_430 : BitVec 32 := 1#32
  let c0_i32_424 : BitVec 32 := 0#32
  let c8_i32_422 : BitVec 32 := 8#32
  let c0_i32_421 : BitVec 32 := 0#32
  let c2048_i32_417 : BitVec 32 := 2048#32
  let c0_i32_416 : BitVec 32 := 0#32
  let v299 : BitVec 32 := Scalar.maxsi c0_i32_416 v298
  let v300 : BitVec 32 := Scalar.minsi c2048_i32_417 v299
  let c15_i32_418 : BitVec 32 := 15#32
  let v301 : BitVec 32 := Scalar.addi v300 c15_i32_418
  let c16_i32_419 : BitVec 32 := 16#32
  let v302 : BitVec 32 := Scalar.divsi v301 c16_i32_419
  let c16_i32_410 : BitVec 32 := 16#32
  let c0_i32_411 : BitVec 32 := 0#32
  let v287 : BitVec 1 := Scalar.cmpi .eq c16_i32_410 c0_i32_411
  let c1_i32_412 : BitVec 32 := 1#32
  let v288 : BitVec 32 := Scalar.select v287 c1_i32_412 c16_i32_410
  let v289 : BitVec 32 := Scalar.remsi v269 v288
  let c0_i32_414 : BitVec 32 := 0#32
  let v291 : BitVec 1 := Scalar.cmpi .slt v289 c0_i32_414
  let c0_i32_415 : BitVec 32 := 0#32
  let v292 : BitVec 1 := Scalar.cmpi .slt v288 c0_i32_415
  let v293 : BitVec 1 := Scalar.xori v291 v292
  let c0_i32_413 : BitVec 32 := 0#32
  let v290 : BitVec 1 := Scalar.cmpi .ne v289 c0_i32_413
  let v294 : BitVec 1 := Scalar.andi v293 v290
  let v295 : BitVec 32 := Scalar.addi v289 v288
  let v296 : BitVec 32 := Scalar.select v294 v295 v289
  let c8_i32_420 : BitVec 32 := 8#32
  let v303 : BitVec 32 := Scalar.muli v296 c8_i32_420
  let v304 : BitVec 32 := Scalar.subi v302 v303
  let v305 : BitVec 32 := Scalar.maxsi c0_i32_421 v304
  let v306 : BitVec 32 := Scalar.minsi c8_i32_422 v305
  let v307 : BitVec 32 := Scalar.subi v306 c0_i32_424
  let c1_i32_425 : BitVec 32 := 1#32
  let v309 : BitVec 32 := Scalar.divsi v307 c1_i32_425
  let v310 : BitVec 32 := Scalar.muli v309 c1_i32_425
  let v311 : BitVec 32 := Scalar.addi c0_i32_424 v310
  let c1_i32_427 : BitVec 32 := 1#32
  let arg18 : BitVec 32 := Scf.iv v311 c1_i32_427 k0_t11
  let c0_i32_433 : BitVec 32 := 0#32
  let c0_i32_434 : BitVec 32 := 0#32
  ![1, 1, arg18.toNat, 0, 0]
def k0_off31 (v316 : BitVec 32) : Fin 3 → Nat :=
  let c0_i32_435 : BitVec 32 := 0#32
  let c0_i32_436 : BitVec 32 := 0#32
  ![v316.toNat, 0, 0]

def k0_chk17 (v1 : BitVec 32) (v316 : BitVec 32) : Prop :=
  (∀ (k0_h2 : k0_cond2 v1 = 1#1), ∀ a, (k0_off31 v316) a + S1x1728x128.size a ≤ S1280x1728x128.size a) ∧
  (∀ (k0_h2 : k0_cond2 v1 = 1#1), ∀ (hinb : ∀ a, (k0_off31 v316) a + S1x1728x128.size a ≤ S1280x1728x128.size a), (Rect.unit (s := S1280x1728x128) (k0_off31 v316) S1x1728x128.size hinb).WholeWords (EltTy.packing .fp8e4m3))
theorem k0_off31_inb : ∀ (v1 : BitVec 32) (v316 : BitVec 32) (k0_hw17 : k0_chk17 v1 v316), ∀ (k0_h2 : k0_cond2 v1 = 1#1), ∀ a, (k0_off31 v316) a + S1x1728x128.size a ≤ S1280x1728x128.size a := fun v1 v316 k0_hw17 k0_h2 => k0_hw17.1 k0_h2
theorem k0_off31_wordsfp8e4m3 : ∀ (v1 : BitVec 32) (v316 : BitVec 32) (k0_hw17 : k0_chk17 v1 v316), ∀ (k0_h2 : k0_cond2 v1 = 1#1), (Rect.unit (s := S1280x1728x128) (k0_off31 v316) S1x1728x128.size (k0_off31_inb v1 v316 k0_hw17 k0_h2)).WholeWords (EltTy.packing .fp8e4m3) := fun v1 v316 k0_hw17 k0_h2 => k0_hw17.2 k0_h2 (k0_off31_inb v1 v316 k0_hw17 k0_h2)

def k0_chk15 (v1 : BitVec 32) (v269 : BitVec 32) (v298 : BitVec 32) : Prop :=
  (∀ (k0_h2 : k0_cond2 v1 = 1#1), (k0_t10_loop v269 v298).OK) ∧
  (∀ k0_t10 : Fin (k0_t10_loop v269 v298).trips, ∀ (k0_h2 : k0_cond2 v1 = 1#1), ∀ a, (k0_off26 v269 v298 k0_t10) a + S1x1.size a ≤ S8x128.size a) ∧
  (∀ k0_t10 : Fin (k0_t10_loop v269 v298).trips, ∀ (k0_h2 : k0_cond2 v1 = 1#1), ∀ a, (k0_off27 v269 v298 k0_t10) a + S1x1x1x1728x128.size a ≤ S2x2x8x1728x128.size a) ∧
  (∀ k0_t10 : Fin (k0_t10_loop v269 v298).trips, ∀ (k0_h2 : k0_cond2 v1 = 1#1), ∀ (hinb : ∀ a, (k0_off27 v269 v298 k0_t10) a + S1x1x1x1728x128.size a ≤ S2x2x8x1728x128.size a), (Rect.unit (s := S2x2x8x1728x128) (k0_off27 v269 v298 k0_t10) S1x1x1x1728x128.size hinb).WholeWords (EltTy.packing .fp8e4m3)) ∧
  (∀ (k0_h2 : k0_cond2 v1 = 1#1), (k0_t11_loop v269 v298).OK) ∧
  (∀ k0_t11 : Fin (k0_t11_loop v269 v298).trips, ∀ (k0_h2 : k0_cond2 v1 = 1#1), ∀ a, (k0_off29 v269 v298 k0_t11) a + S1x1.size a ≤ S8x128.size a) ∧
  (∀ k0_t11 : Fin (k0_t11_loop v269 v298).trips, ∀ (k0_h2 : k0_cond2 v1 = 1#1), ∀ a, (k0_off30 v269 v298 k0_t11) a + S1x1x1x1728x128.size a ≤ S2x2x8x1728x128.size a) ∧
  (∀ k0_t11 : Fin (k0_t11_loop v269 v298).trips, ∀ (k0_h2 : k0_cond2 v1 = 1#1), ∀ (hinb : ∀ a, (k0_off30 v269 v298 k0_t11) a + S1x1x1x1728x128.size a ≤ S2x2x8x1728x128.size a), (Rect.unit (s := S2x2x8x1728x128) (k0_off30 v269 v298 k0_t11) S1x1x1x1728x128.size hinb).WholeWords (EltTy.packing .fp8e4m3))
theorem k0_t10_ok : ∀ (v1 : BitVec 32) (v269 : BitVec 32) (v298 : BitVec 32) (k0_hw15 : k0_chk15 v1 v269 v298), ∀ (k0_h2 : k0_cond2 v1 = 1#1), (k0_t10_loop v269 v298).OK := fun v1 v269 v298 k0_hw15 k0_h2 => k0_hw15.1 k0_h2
theorem k0_off26_inb : ∀ (v1 : BitVec 32) (v269 : BitVec 32) (v298 : BitVec 32) (k0_hw15 : k0_chk15 v1 v269 v298) (k0_t10 : Fin (k0_t10_loop v269 v298).trips), ∀ (k0_h2 : k0_cond2 v1 = 1#1), ∀ a, (k0_off26 v269 v298 k0_t10) a + S1x1.size a ≤ S8x128.size a := fun v1 v269 v298 k0_hw15 k0_t10 k0_h2 => k0_hw15.2.1 k0_t10 k0_h2
theorem k0_off27_inb : ∀ (v1 : BitVec 32) (v269 : BitVec 32) (v298 : BitVec 32) (k0_hw15 : k0_chk15 v1 v269 v298) (k0_t10 : Fin (k0_t10_loop v269 v298).trips), ∀ (k0_h2 : k0_cond2 v1 = 1#1), ∀ a, (k0_off27 v269 v298 k0_t10) a + S1x1x1x1728x128.size a ≤ S2x2x8x1728x128.size a := fun v1 v269 v298 k0_hw15 k0_t10 k0_h2 => k0_hw15.2.2.1 k0_t10 k0_h2
theorem k0_off27_wordsfp8e4m3 : ∀ (v1 : BitVec 32) (v269 : BitVec 32) (v298 : BitVec 32) (k0_hw15 : k0_chk15 v1 v269 v298) (k0_t10 : Fin (k0_t10_loop v269 v298).trips), ∀ (k0_h2 : k0_cond2 v1 = 1#1), (Rect.unit (s := S2x2x8x1728x128) (k0_off27 v269 v298 k0_t10) S1x1x1x1728x128.size (k0_off27_inb v1 v269 v298 k0_hw15 k0_t10 k0_h2)).WholeWords (EltTy.packing .fp8e4m3) := fun v1 v269 v298 k0_hw15 k0_t10 k0_h2 => k0_hw15.2.2.2.1 k0_t10 k0_h2 (k0_off27_inb v1 v269 v298 k0_hw15 k0_t10 k0_h2)
theorem k0_t11_ok : ∀ (v1 : BitVec 32) (v269 : BitVec 32) (v298 : BitVec 32) (k0_hw15 : k0_chk15 v1 v269 v298), ∀ (k0_h2 : k0_cond2 v1 = 1#1), (k0_t11_loop v269 v298).OK := fun v1 v269 v298 k0_hw15 k0_h2 => k0_hw15.2.2.2.2.1 k0_h2
theorem k0_off29_inb : ∀ (v1 : BitVec 32) (v269 : BitVec 32) (v298 : BitVec 32) (k0_hw15 : k0_chk15 v1 v269 v298) (k0_t11 : Fin (k0_t11_loop v269 v298).trips), ∀ (k0_h2 : k0_cond2 v1 = 1#1), ∀ a, (k0_off29 v269 v298 k0_t11) a + S1x1.size a ≤ S8x128.size a := fun v1 v269 v298 k0_hw15 k0_t11 k0_h2 => k0_hw15.2.2.2.2.2.1 k0_t11 k0_h2
theorem k0_off30_inb : ∀ (v1 : BitVec 32) (v269 : BitVec 32) (v298 : BitVec 32) (k0_hw15 : k0_chk15 v1 v269 v298) (k0_t11 : Fin (k0_t11_loop v269 v298).trips), ∀ (k0_h2 : k0_cond2 v1 = 1#1), ∀ a, (k0_off30 v269 v298 k0_t11) a + S1x1x1x1728x128.size a ≤ S2x2x8x1728x128.size a := fun v1 v269 v298 k0_hw15 k0_t11 k0_h2 => k0_hw15.2.2.2.2.2.2.1 k0_t11 k0_h2
theorem k0_off30_wordsfp8e4m3 : ∀ (v1 : BitVec 32) (v269 : BitVec 32) (v298 : BitVec 32) (k0_hw15 : k0_chk15 v1 v269 v298) (k0_t11 : Fin (k0_t11_loop v269 v298).trips), ∀ (k0_h2 : k0_cond2 v1 = 1#1), (Rect.unit (s := S2x2x8x1728x128) (k0_off30 v269 v298 k0_t11) S1x1x1x1728x128.size (k0_off30_inb v1 v269 v298 k0_hw15 k0_t11 k0_h2)).WholeWords (EltTy.packing .fp8e4m3) := fun v1 v269 v298 k0_hw15 k0_t11 k0_h2 => k0_hw15.2.2.2.2.2.2.2 k0_t11 k0_h2 (k0_off30_inb v1 v269 v298 k0_hw15 k0_t11 k0_h2)

@[reducible] def k0_t12_loop : Scf.Loop 32 :=
  let c0_i32_14 : BitVec 32 := 0#32
  let c108_i32 : BitVec 32 := 108#32
  let v13 : BitVec 32 := Scalar.addi c0_i32_14 c108_i32
  let c1_i32_15 : BitVec 32 := 1#32
  ⟨c0_i32_14, v13, c1_i32_15⟩
def k0_off32 (k0_t12 : Fin k0_t12_loop.trips) : Fin 3 → Nat :=
  let c0_i32_14 : BitVec 32 := 0#32
  let c1_i32_15 : BitVec 32 := 1#32
  let arg18 : BitVec 32 := Scf.iv c0_i32_14 c1_i32_15 k0_t12
  let v227 : Index := Scalar.indexCast arg18
  let c0 : Index := 0#32
  let c0_380 : Index := 0#32
  ![v227.toNat, 0, 0]
@[reducible] def k0_t13_loop : Scf.Loop 32 :=
  let c0_i32_32 : BitVec 32 := 0#32
  let c12_i32_33 : BitVec 32 := 12#32
  let v24 : BitVec 32 := Scalar.addi c0_i32_32 c12_i32_33
  let c1_i32_34 : BitVec 32 := 1#32
  ⟨c0_i32_32, v24, c1_i32_34⟩
def k0_off33 (k0_t13 : Fin k0_t13_loop.trips) : Fin 4 → Nat :=
  let c0 : Index := 0#32
  let c0_i32_32 : BitVec 32 := 0#32
  let c1_i32_34 : BitVec 32 := 1#32
  let arg18 : BitVec 32 := Scf.iv c0_i32_32 c1_i32_34 k0_t13
  let v226 : Index := Scalar.indexCast arg18
  let c0_380 : Index := 0#32
  let c0_381 : Index := 0#32
  ![0, v226.toNat, 0, 0]
def k0_off34 (k0_t13 : Fin k0_t13_loop.trips) : Fin 5 → Nat :=
  let c0_383 : Index := 0#32
  let c0_384 : Index := 0#32
  let c0_i32_382 : BitVec 32 := 0#32
  let c0_i32_32 : BitVec 32 := 0#32
  let c1_i32_34 : BitVec 32 := 1#32
  let arg18 : BitVec 32 := Scf.iv c0_i32_32 c1_i32_34 k0_t13
  let v231 : BitVec 32 := Scalar.addi c0_i32_382 arg18
  let v232 : Index := Scalar.indexCast v231
  let c0_385 : Index := 0#32
  let c0_386 : Index := 0#32
  ![0, 0, v232.toNat, 0, 0]
def k0_off35 (k0_t13 : Fin k0_t13_loop.trips) : Fin 4 → Nat :=
  let c0_387 : Index := 0#32
  let c0_i32_32 : BitVec 32 := 0#32
  let c1_i32_34 : BitVec 32 := 1#32
  let arg18 : BitVec 32 := Scf.iv c0_i32_32 c1_i32_34 k0_t13
  let v236 : Index := Scalar.indexCast arg18
  let c0_388 : Index := 0#32
  let c128 : Index := 128#32
  ![0, v236.toNat, 0, 128]
def k0_off36 (k0_t13 : Fin k0_t13_loop.trips) : Fin 5 → Nat :=
  let c0_390 : Index := 0#32
  let c1 : Index := 1#32
  let c0_i32_389 : BitVec 32 := 0#32
  let c0_i32_32 : BitVec 32 := 0#32
  let c1_i32_34 : BitVec 32 := 1#32
  let arg18 : BitVec 32 := Scf.iv c0_i32_32 c1_i32_34 k0_t13
  let v241 : BitVec 32 := Scalar.addi c0_i32_389 arg18
  let v242 : Index := Scalar.indexCast v241
  let c0_391 : Index := 0#32
  let c0_392 : Index := 0#32
  ![0, 1, v242.toNat, 0, 0]
def k0_off37 (k0_t13 : Fin k0_t13_loop.trips) : Fin 4 → Nat :=
  let c0_393 : Index := 0#32
  let c0_i32_32 : BitVec 32 := 0#32
  let c1_i32_34 : BitVec 32 := 1#32
  let arg18 : BitVec 32 := Scf.iv c0_i32_32 c1_i32_34 k0_t13
  let v246 : Index := Scalar.indexCast arg18
  let c0_394 : Index := 0#32
  let c256 : Index := 256#32
  ![0, v246.toNat, 0, 256]
def k0_off38 (k0_t13 : Fin k0_t13_loop.trips) : Fin 5 → Nat :=
  let c0_396 : Index := 0#32
  let c2 : Index := 2#32
  let c0_i32_395 : BitVec 32 := 0#32
  let c0_i32_32 : BitVec 32 := 0#32
  let c1_i32_34 : BitVec 32 := 1#32
  let arg18 : BitVec 32 := Scf.iv c0_i32_32 c1_i32_34 k0_t13
  let v251 : BitVec 32 := Scalar.addi c0_i32_395 arg18
  let v252 : Index := Scalar.indexCast v251
  let c0_397 : Index := 0#32
  let c0_398 : Index := 0#32
  ![0, 2, v252.toNat, 0, 0]
def k0_off39 (k0_t13 : Fin k0_t13_loop.trips) : Fin 4 → Nat :=
  let c0_399 : Index := 0#32
  let c0_i32_32 : BitVec 32 := 0#32
  let c1_i32_34 : BitVec 32 := 1#32
  let arg18 : BitVec 32 := Scf.iv c0_i32_32 c1_i32_34 k0_t13
  let v256 : Index := Scalar.indexCast arg18
  let c0_400 : Index := 0#32
  let c384 : Index := 384#32
  ![0, v256.toNat, 0, 384]
def k0_off40 (k0_t13 : Fin k0_t13_loop.trips) : Fin 5 → Nat :=
  let c0_402 : Index := 0#32
  let c3 : Index := 3#32
  let c0_i32_401 : BitVec 32 := 0#32
  let c0_i32_32 : BitVec 32 := 0#32
  let c1_i32_34 : BitVec 32 := 1#32
  let arg18 : BitVec 32 := Scf.iv c0_i32_32 c1_i32_34 k0_t13
  let v261 : BitVec 32 := Scalar.addi c0_i32_401 arg18
  let v262 : Index := Scalar.indexCast v261
  let c0_403 : Index := 0#32
  let c0_404 : Index := 0#32
  ![0, 3, v262.toNat, 0, 0]
def k0_off41 (k0_t13 : Fin k0_t13_loop.trips) : Fin 4 → Nat :=
  let c0_405 : Index := 0#32
  let c0_i32_32 : BitVec 32 := 0#32
  let c1_i32_34 : BitVec 32 := 1#32
  let arg18 : BitVec 32 := Scf.iv c0_i32_32 c1_i32_34 k0_t13
  let v266 : Index := Scalar.indexCast arg18
  let c0_406 : Index := 0#32
  let c512 : Index := 512#32
  ![0, v266.toNat, 0, 512]
def k0_off42 (k0_t13 : Fin k0_t13_loop.trips) : Fin 5 → Nat :=
  let c0_408 : Index := 0#32
  let c4 : Index := 4#32
  let c0_i32_407 : BitVec 32 := 0#32
  let c0_i32_32 : BitVec 32 := 0#32
  let c1_i32_34 : BitVec 32 := 1#32
  let arg18 : BitVec 32 := Scf.iv c0_i32_32 c1_i32_34 k0_t13
  let v271 : BitVec 32 := Scalar.addi c0_i32_407 arg18
  let v272 : Index := Scalar.indexCast v271
  let c0_409 : Index := 0#32
  let c0_410 : Index := 0#32
  ![0, 4, v272.toNat, 0, 0]
def k0_off43 (k0_t13 : Fin k0_t13_loop.trips) : Fin 4 → Nat :=
  let c0_411 : Index := 0#32
  let c0_i32_32 : BitVec 32 := 0#32
  let c1_i32_34 : BitVec 32 := 1#32
  let arg18 : BitVec 32 := Scf.iv c0_i32_32 c1_i32_34 k0_t13
  let v276 : Index := Scalar.indexCast arg18
  let c0_412 : Index := 0#32
  let c640 : Index := 640#32
  ![0, v276.toNat, 0, 640]
def k0_off44 (k0_t13 : Fin k0_t13_loop.trips) : Fin 5 → Nat :=
  let c0_414 : Index := 0#32
  let c5 : Index := 5#32
  let c0_i32_413 : BitVec 32 := 0#32
  let c0_i32_32 : BitVec 32 := 0#32
  let c1_i32_34 : BitVec 32 := 1#32
  let arg18 : BitVec 32 := Scf.iv c0_i32_32 c1_i32_34 k0_t13
  let v281 : BitVec 32 := Scalar.addi c0_i32_413 arg18
  let v282 : Index := Scalar.indexCast v281
  let c0_415 : Index := 0#32
  let c0_416 : Index := 0#32
  ![0, 5, v282.toNat, 0, 0]
def k0_off45 (k0_t13 : Fin k0_t13_loop.trips) : Fin 4 → Nat :=
  let c0_417 : Index := 0#32
  let c0_i32_32 : BitVec 32 := 0#32
  let c1_i32_34 : BitVec 32 := 1#32
  let arg18 : BitVec 32 := Scf.iv c0_i32_32 c1_i32_34 k0_t13
  let v286 : Index := Scalar.indexCast arg18
  let c0_418 : Index := 0#32
  let c768 : Index := 768#32
  ![0, v286.toNat, 0, 768]
def k0_off46 (k0_t13 : Fin k0_t13_loop.trips) : Fin 5 → Nat :=
  let c0_420 : Index := 0#32
  let c6 : Index := 6#32
  let c0_i32_419 : BitVec 32 := 0#32
  let c0_i32_32 : BitVec 32 := 0#32
  let c1_i32_34 : BitVec 32 := 1#32
  let arg18 : BitVec 32 := Scf.iv c0_i32_32 c1_i32_34 k0_t13
  let v291 : BitVec 32 := Scalar.addi c0_i32_419 arg18
  let v292 : Index := Scalar.indexCast v291
  let c0_421 : Index := 0#32
  let c0_422 : Index := 0#32
  ![0, 6, v292.toNat, 0, 0]
def k0_off47 (k0_t13 : Fin k0_t13_loop.trips) : Fin 4 → Nat :=
  let c0_423 : Index := 0#32
  let c0_i32_32 : BitVec 32 := 0#32
  let c1_i32_34 : BitVec 32 := 1#32
  let arg18 : BitVec 32 := Scf.iv c0_i32_32 c1_i32_34 k0_t13
  let v296 : Index := Scalar.indexCast arg18
  let c0_424 : Index := 0#32
  let c896 : Index := 896#32
  ![0, v296.toNat, 0, 896]
def k0_off48 (k0_t13 : Fin k0_t13_loop.trips) : Fin 5 → Nat :=
  let c0_426 : Index := 0#32
  let c7 : Index := 7#32
  let c0_i32_425 : BitVec 32 := 0#32
  let c0_i32_32 : BitVec 32 := 0#32
  let c1_i32_34 : BitVec 32 := 1#32
  let arg18 : BitVec 32 := Scf.iv c0_i32_32 c1_i32_34 k0_t13
  let v301 : BitVec 32 := Scalar.addi c0_i32_425 arg18
  let v302 : Index := Scalar.indexCast v301
  let c0_427 : Index := 0#32
  let c0_428 : Index := 0#32
  ![0, 7, v302.toNat, 0, 0]
def k0_off49 (k0_t13 : Fin k0_t13_loop.trips) : Fin 4 → Nat :=
  let c0_429 : Index := 0#32
  let c0_i32_32 : BitVec 32 := 0#32
  let c1_i32_34 : BitVec 32 := 1#32
  let arg18 : BitVec 32 := Scf.iv c0_i32_32 c1_i32_34 k0_t13
  let v306 : Index := Scalar.indexCast arg18
  let c0_430 : Index := 0#32
  let c1024 : Index := 1024#32
  ![0, v306.toNat, 0, 1024]
def k0_off50 (k0_t13 : Fin k0_t13_loop.trips) : Fin 5 → Nat :=
  let c0_432 : Index := 0#32
  let c8 : Index := 8#32
  let c0_i32_431 : BitVec 32 := 0#32
  let c0_i32_32 : BitVec 32 := 0#32
  let c1_i32_34 : BitVec 32 := 1#32
  let arg18 : BitVec 32 := Scf.iv c0_i32_32 c1_i32_34 k0_t13
  let v311 : BitVec 32 := Scalar.addi c0_i32_431 arg18
  let v312 : Index := Scalar.indexCast v311
  let c0_433 : Index := 0#32
  let c0_434 : Index := 0#32
  ![0, 8, v312.toNat, 0, 0]
def k0_off51 (k0_t13 : Fin k0_t13_loop.trips) : Fin 4 → Nat :=
  let c0_435 : Index := 0#32
  let c0_i32_32 : BitVec 32 := 0#32
  let c1_i32_34 : BitVec 32 := 1#32
  let arg18 : BitVec 32 := Scf.iv c0_i32_32 c1_i32_34 k0_t13
  let v316 : Index := Scalar.indexCast arg18
  let c0_436 : Index := 0#32
  let c1152 : Index := 1152#32
  ![0, v316.toNat, 0, 1152]
def k0_off52 (k0_t13 : Fin k0_t13_loop.trips) : Fin 5 → Nat :=
  let c0_438 : Index := 0#32
  let c9 : Index := 9#32
  let c0_i32_437 : BitVec 32 := 0#32
  let c0_i32_32 : BitVec 32 := 0#32
  let c1_i32_34 : BitVec 32 := 1#32
  let arg18 : BitVec 32 := Scf.iv c0_i32_32 c1_i32_34 k0_t13
  let v321 : BitVec 32 := Scalar.addi c0_i32_437 arg18
  let v322 : Index := Scalar.indexCast v321
  let c0_439 : Index := 0#32
  let c0_440 : Index := 0#32
  ![0, 9, v322.toNat, 0, 0]
@[reducible] def k0_t14_loop : Scf.Loop 32 :=
  let c0_i32_37 : BitVec 32 := 0#32
  let c8_i32_38 : BitVec 32 := 8#32
  let v25 : BitVec 32 := Scalar.addi c0_i32_37 c8_i32_38
  let c1_i32_39 : BitVec 32 := 1#32
  ⟨c0_i32_37, v25, c1_i32_39⟩
def k0_off53 (k0_t14 : Fin k0_t14_loop.trips) : Fin 1 → Nat :=
  let c0_i32_37 : BitVec 32 := 0#32
  let c1_i32_39 : BitVec 32 := 1#32
  let arg18 : BitVec 32 := Scf.iv c0_i32_37 c1_i32_39 k0_t14
  let v226 : Index := Scalar.indexCast arg18
  ![v226.toNat]
@[reducible] def k0_t15_loop (v227 : BitVec 32) : Scf.Loop 32 :=
  let c2048_i32 : BitVec 32 := 2048#32
  let c0_i32_380 : BitVec 32 := 0#32
  let v228 : BitVec 32 := Scalar.maxsi c0_i32_380 v227
  let v229 : BitVec 32 := Scalar.minsi c2048_i32 v228
  let c127_i32 : BitVec 32 := 127#32
  let v230 : BitVec 32 := Scalar.addi v229 c127_i32
  let c128_i32_381 : BitVec 32 := 128#32
  let v231 : BitVec 32 := Scalar.divsi v230 c128_i32_381
  let c16_i32 : BitVec 32 := 16#32
  let v232 : BitVec 32 := Scalar.subi c16_i32 v231
  let c1_i32_382 : BitVec 32 := 1#32
  let v234 : BitVec 32 := Scalar.divsi v232 c1_i32_382
  let v235 : BitVec 32 := Scalar.muli v234 c1_i32_382
  let v236 : BitVec 32 := Scalar.addi v231 v235
  let c1_i32_383 : BitVec 32 := 1#32
  ⟨v231, v236, c1_i32_383⟩

def k0_mult1 (v227 : BitVec 32) (k0_t15 : Fin (k0_t15_loop v227).trips) : BitVec 32 :=
  let c2048_i32 : BitVec 32 := 2048#32
  let c0_i32_380 : BitVec 32 := 0#32
  let v228 : BitVec 32 := Scalar.maxsi c0_i32_380 v227
  let v229 : BitVec 32 := Scalar.minsi c2048_i32 v228
  let c127_i32 : BitVec 32 := 127#32
  let v230 : BitVec 32 := Scalar.addi v229 c127_i32
  let c128_i32_381 : BitVec 32 := 128#32
  let v231 : BitVec 32 := Scalar.divsi v230 c128_i32_381
  let c1_i32_383 : BitVec 32 := 1#32
  let arg19 : BitVec 32 := Scf.iv v231 c1_i32_383 k0_t15
  let c128_i32_385 : BitVec 32 := 128#32
  let v237 : BitVec 32 := Scalar.muli arg19 c128_i32_385
  v237
def k0_off54 (k0_t14 : Fin k0_t14_loop.trips) (v227 : BitVec 32) (k0_t15 : Fin (k0_t15_loop v227).trips) : Fin 4 → Nat :=
  let c0_i32_37 : BitVec 32 := 0#32
  let c1_i32_39 : BitVec 32 := 1#32
  let arg18 : BitVec 32 := Scf.iv c0_i32_37 c1_i32_39 k0_t14
  let c0_i32_386 : BitVec 32 := 0#32
  let c2048_i32 : BitVec 32 := 2048#32
  let c0_i32_380 : BitVec 32 := 0#32
  let v228 : BitVec 32 := Scalar.maxsi c0_i32_380 v227
  let v229 : BitVec 32 := Scalar.minsi c2048_i32 v228
  let c127_i32 : BitVec 32 := 127#32
  let v230 : BitVec 32 := Scalar.addi v229 c127_i32
  let c128_i32_381 : BitVec 32 := 128#32
  let v231 : BitVec 32 := Scalar.divsi v230 c128_i32_381
  let c1_i32_383 : BitVec 32 := 1#32
  let arg19 : BitVec 32 := Scf.iv v231 c1_i32_383 k0_t15
  let c128_i32_385 : BitVec 32 := 128#32
  let v237 : BitVec 32 := Scalar.muli arg19 c128_i32_385
  let v238 : BitVec 32 := v237
  let c0_i32_387 : BitVec 32 := 0#32
  ![arg18.toNat, 0, v238.toNat, 0]
def k0_mult2 (v227 : BitVec 32) (k0_t15 : Fin (k0_t15_loop v227).trips) : BitVec 32 :=
  let c2048_i32 : BitVec 32 := 2048#32
  let c0_i32_380 : BitVec 32 := 0#32
  let v228 : BitVec 32 := Scalar.maxsi c0_i32_380 v227
  let v229 : BitVec 32 := Scalar.minsi c2048_i32 v228
  let c127_i32 : BitVec 32 := 127#32
  let v230 : BitVec 32 := Scalar.addi v229 c127_i32
  let c128_i32_381 : BitVec 32 := 128#32
  let v231 : BitVec 32 := Scalar.divsi v230 c128_i32_381
  let c1_i32_383 : BitVec 32 := 1#32
  let arg19 : BitVec 32 := Scf.iv v231 c1_i32_383 k0_t15
  let c128_i32_388 : BitVec 32 := 128#32
  let v241 : BitVec 32 := Scalar.muli arg19 c128_i32_388
  v241
@[reducible] def k0_t16_loop (v227 : BitVec 32) : Scf.Loop 32 :=
  let c2048_i32 : BitVec 32 := 2048#32
  let c0_i32_380 : BitVec 32 := 0#32
  let v228 : BitVec 32 := Scalar.maxsi c0_i32_380 v227
  let v229 : BitVec 32 := Scalar.minsi c2048_i32 v228
  let c127_i32 : BitVec 32 := 127#32
  let v230 : BitVec 32 := Scalar.addi v229 c127_i32
  let c128_i32_381 : BitVec 32 := 128#32
  let v231 : BitVec 32 := Scalar.divsi v230 c128_i32_381
  let c16_i32 : BitVec 32 := 16#32
  let v232 : BitVec 32 := Scalar.subi c16_i32 v231
  let c1_i32_382 : BitVec 32 := 1#32
  let v234 : BitVec 32 := Scalar.divsi v232 c1_i32_382
  let v235 : BitVec 32 := Scalar.muli v234 c1_i32_382
  let v236 : BitVec 32 := Scalar.addi v231 v235
  let v233 : BitVec 32 := Scalar.addi v231 v232
  let c1_i32_384 : BitVec 32 := 1#32
  ⟨v236, v233, c1_i32_384⟩
def k0_mult3 (v227 : BitVec 32) (k0_t16 : Fin (k0_t16_loop v227).trips) : BitVec 32 :=
  let c2048_i32 : BitVec 32 := 2048#32
  let c0_i32_380 : BitVec 32 := 0#32
  let v228 : BitVec 32 := Scalar.maxsi c0_i32_380 v227
  let v229 : BitVec 32 := Scalar.minsi c2048_i32 v228
  let c127_i32 : BitVec 32 := 127#32
  let v230 : BitVec 32 := Scalar.addi v229 c127_i32
  let c128_i32_381 : BitVec 32 := 128#32
  let v231 : BitVec 32 := Scalar.divsi v230 c128_i32_381
  let c16_i32 : BitVec 32 := 16#32
  let v232 : BitVec 32 := Scalar.subi c16_i32 v231
  let c1_i32_382 : BitVec 32 := 1#32
  let v234 : BitVec 32 := Scalar.divsi v232 c1_i32_382
  let v235 : BitVec 32 := Scalar.muli v234 c1_i32_382
  let v236 : BitVec 32 := Scalar.addi v231 v235
  let c1_i32_384 : BitVec 32 := 1#32
  let arg19 : BitVec 32 := Scf.iv v236 c1_i32_384 k0_t16
  let c128_i32_385 : BitVec 32 := 128#32
  let v237 : BitVec 32 := Scalar.muli arg19 c128_i32_385
  v237
def k0_off55 (k0_t14 : Fin k0_t14_loop.trips) (v227 : BitVec 32) (k0_t16 : Fin (k0_t16_loop v227).trips) : Fin 4 → Nat :=
  let c0_i32_37 : BitVec 32 := 0#32
  let c1_i32_39 : BitVec 32 := 1#32
  let arg18 : BitVec 32 := Scf.iv c0_i32_37 c1_i32_39 k0_t14
  let c0_i32_386 : BitVec 32 := 0#32
  let c2048_i32 : BitVec 32 := 2048#32
  let c0_i32_380 : BitVec 32 := 0#32
  let v228 : BitVec 32 := Scalar.maxsi c0_i32_380 v227
  let v229 : BitVec 32 := Scalar.minsi c2048_i32 v228
  let c127_i32 : BitVec 32 := 127#32
  let v230 : BitVec 32 := Scalar.addi v229 c127_i32
  let c128_i32_381 : BitVec 32 := 128#32
  let v231 : BitVec 32 := Scalar.divsi v230 c128_i32_381
  let c16_i32 : BitVec 32 := 16#32
  let v232 : BitVec 32 := Scalar.subi c16_i32 v231
  let c1_i32_382 : BitVec 32 := 1#32
  let v234 : BitVec 32 := Scalar.divsi v232 c1_i32_382
  let v235 : BitVec 32 := Scalar.muli v234 c1_i32_382
  let v236 : BitVec 32 := Scalar.addi v231 v235
  let c1_i32_384 : BitVec 32 := 1#32
  let arg19 : BitVec 32 := Scf.iv v236 c1_i32_384 k0_t16
  let c128_i32_385 : BitVec 32 := 128#32
  let v237 : BitVec 32 := Scalar.muli arg19 c128_i32_385
  let v238 : BitVec 32 := v237
  let c0_i32_387 : BitVec 32 := 0#32
  ![arg18.toNat, 0, v238.toNat, 0]
def k0_mult4 (v227 : BitVec 32) (k0_t16 : Fin (k0_t16_loop v227).trips) : BitVec 32 :=
  let c2048_i32 : BitVec 32 := 2048#32
  let c0_i32_380 : BitVec 32 := 0#32
  let v228 : BitVec 32 := Scalar.maxsi c0_i32_380 v227
  let v229 : BitVec 32 := Scalar.minsi c2048_i32 v228
  let c127_i32 : BitVec 32 := 127#32
  let v230 : BitVec 32 := Scalar.addi v229 c127_i32
  let c128_i32_381 : BitVec 32 := 128#32
  let v231 : BitVec 32 := Scalar.divsi v230 c128_i32_381
  let c16_i32 : BitVec 32 := 16#32
  let v232 : BitVec 32 := Scalar.subi c16_i32 v231
  let c1_i32_382 : BitVec 32 := 1#32
  let v234 : BitVec 32 := Scalar.divsi v232 c1_i32_382
  let v235 : BitVec 32 := Scalar.muli v234 c1_i32_382
  let v236 : BitVec 32 := Scalar.addi v231 v235
  let c1_i32_384 : BitVec 32 := 1#32
  let arg19 : BitVec 32 := Scf.iv v236 c1_i32_384 k0_t16
  let c128_i32_388 : BitVec 32 := 128#32
  let v241 : BitVec 32 := Scalar.muli arg19 c128_i32_388
  v241

def k0_chk18 (k0_t14 : Fin k0_t14_loop.trips) (v227 : BitVec 32) : Prop :=
  ((k0_t15_loop v227).OK) ∧
  (∀ k0_t15 : Fin (k0_t15_loop v227).trips, 128 ∣ (k0_mult1 v227 k0_t15).toNat) ∧
  (∀ k0_t15 : Fin (k0_t15_loop v227).trips, ∀ a, (k0_off54 k0_t14 v227 k0_t15) a + S1x108x128x128.size a ≤ S8x108x2048x128.size a) ∧
  (∀ k0_t15 : Fin (k0_t15_loop v227).trips, ∀ (hinb : ∀ a, (k0_off54 k0_t14 v227 k0_t15) a + S1x108x128x128.size a ≤ S8x108x2048x128.size a), (Rect.unit (s := S8x108x2048x128) (k0_off54 k0_t14 v227 k0_t15) S1x108x128x128.size hinb).WholeWords (EltTy.packing .bf16)) ∧
  (∀ k0_t15 : Fin (k0_t15_loop v227).trips, 128 ∣ (k0_mult2 v227 k0_t15).toNat) ∧
  ((k0_t16_loop v227).OK) ∧
  (∀ k0_t16 : Fin (k0_t16_loop v227).trips, 128 ∣ (k0_mult3 v227 k0_t16).toNat) ∧
  (∀ k0_t16 : Fin (k0_t16_loop v227).trips, ∀ a, (k0_off55 k0_t14 v227 k0_t16) a + S1x108x128x128.size a ≤ S8x108x2048x128.size a) ∧
  (∀ k0_t16 : Fin (k0_t16_loop v227).trips, ∀ (hinb : ∀ a, (k0_off55 k0_t14 v227 k0_t16) a + S1x108x128x128.size a ≤ S8x108x2048x128.size a), (Rect.unit (s := S8x108x2048x128) (k0_off55 k0_t14 v227 k0_t16) S1x108x128x128.size hinb).WholeWords (EltTy.packing .bf16)) ∧
  (∀ k0_t16 : Fin (k0_t16_loop v227).trips, 128 ∣ (k0_mult4 v227 k0_t16).toNat)
theorem k0_t15_ok : ∀ (k0_t14 : Fin k0_t14_loop.trips) (v227 : BitVec 32) (k0_hw18 : k0_chk18 k0_t14 v227), (k0_t15_loop v227).OK := fun k0_t14 v227 k0_hw18 => k0_hw18.1
theorem k0_mult1_dvd : ∀ (k0_t14 : Fin k0_t14_loop.trips) (v227 : BitVec 32) (k0_hw18 : k0_chk18 k0_t14 v227) (k0_t15 : Fin (k0_t15_loop v227).trips), 128 ∣ (k0_mult1 v227 k0_t15).toNat := fun k0_t14 v227 k0_hw18 k0_t15 => k0_hw18.2.1 k0_t15
theorem k0_off54_inb : ∀ (k0_t14 : Fin k0_t14_loop.trips) (v227 : BitVec 32) (k0_hw18 : k0_chk18 k0_t14 v227) (k0_t15 : Fin (k0_t15_loop v227).trips), ∀ a, (k0_off54 k0_t14 v227 k0_t15) a + S1x108x128x128.size a ≤ S8x108x2048x128.size a := fun k0_t14 v227 k0_hw18 k0_t15 => k0_hw18.2.2.1 k0_t15
theorem k0_off54_wordsbf16 : ∀ (k0_t14 : Fin k0_t14_loop.trips) (v227 : BitVec 32) (k0_hw18 : k0_chk18 k0_t14 v227) (k0_t15 : Fin (k0_t15_loop v227).trips), (Rect.unit (s := S8x108x2048x128) (k0_off54 k0_t14 v227 k0_t15) S1x108x128x128.size (k0_off54_inb k0_t14 v227 k0_hw18 k0_t15)).WholeWords (EltTy.packing .bf16) := fun k0_t14 v227 k0_hw18 k0_t15 => k0_hw18.2.2.2.1 k0_t15 (k0_off54_inb k0_t14 v227 k0_hw18 k0_t15)
theorem k0_mult2_dvd : ∀ (k0_t14 : Fin k0_t14_loop.trips) (v227 : BitVec 32) (k0_hw18 : k0_chk18 k0_t14 v227) (k0_t15 : Fin (k0_t15_loop v227).trips), 128 ∣ (k0_mult2 v227 k0_t15).toNat := fun k0_t14 v227 k0_hw18 k0_t15 => k0_hw18.2.2.2.2.1 k0_t15
theorem k0_t16_ok : ∀ (k0_t14 : Fin k0_t14_loop.trips) (v227 : BitVec 32) (k0_hw18 : k0_chk18 k0_t14 v227), (k0_t16_loop v227).OK := fun k0_t14 v227 k0_hw18 => k0_hw18.2.2.2.2.2.1
theorem k0_mult3_dvd : ∀ (k0_t14 : Fin k0_t14_loop.trips) (v227 : BitVec 32) (k0_hw18 : k0_chk18 k0_t14 v227) (k0_t16 : Fin (k0_t16_loop v227).trips), 128 ∣ (k0_mult3 v227 k0_t16).toNat := fun k0_t14 v227 k0_hw18 k0_t16 => k0_hw18.2.2.2.2.2.2.1 k0_t16
theorem k0_off55_inb : ∀ (k0_t14 : Fin k0_t14_loop.trips) (v227 : BitVec 32) (k0_hw18 : k0_chk18 k0_t14 v227) (k0_t16 : Fin (k0_t16_loop v227).trips), ∀ a, (k0_off55 k0_t14 v227 k0_t16) a + S1x108x128x128.size a ≤ S8x108x2048x128.size a := fun k0_t14 v227 k0_hw18 k0_t16 => k0_hw18.2.2.2.2.2.2.2.1 k0_t16
theorem k0_off55_wordsbf16 : ∀ (k0_t14 : Fin k0_t14_loop.trips) (v227 : BitVec 32) (k0_hw18 : k0_chk18 k0_t14 v227) (k0_t16 : Fin (k0_t16_loop v227).trips), (Rect.unit (s := S8x108x2048x128) (k0_off55 k0_t14 v227 k0_t16) S1x108x128x128.size (k0_off55_inb k0_t14 v227 k0_hw18 k0_t16)).WholeWords (EltTy.packing .bf16) := fun k0_t14 v227 k0_hw18 k0_t16 => k0_hw18.2.2.2.2.2.2.2.2.1 k0_t16 (k0_off55_inb k0_t14 v227 k0_hw18 k0_t16)
theorem k0_mult4_dvd : ∀ (k0_t14 : Fin k0_t14_loop.trips) (v227 : BitVec 32) (k0_hw18 : k0_chk18 k0_t14 v227) (k0_t16 : Fin (k0_t16_loop v227).trips), 128 ∣ (k0_mult4 v227 k0_t16).toNat := fun k0_t14 v227 k0_hw18 k0_t16 => k0_hw18.2.2.2.2.2.2.2.2.2 k0_t16

@[reducible] def k0_t17_loop : Scf.Loop 32 :=
  let c0_i32_56 : BitVec 32 := 0#32
  let c12_i32_57 : BitVec 32 := 12#32
  let v36 : BitVec 32 := Scalar.addi c0_i32_56 c12_i32_57
  let c1_i32_58 : BitVec 32 := 1#32
  ⟨c0_i32_56, v36, c1_i32_58⟩
def k0_off56 (k0_t17 : Fin k0_t17_loop.trips) : Fin 4 → Nat :=
  let c1 : Index := 1#32
  let c0_i32_56 : BitVec 32 := 0#32
  let c1_i32_58 : BitVec 32 := 1#32
  let arg18 : BitVec 32 := Scf.iv c0_i32_56 c1_i32_58 k0_t17
  let v226 : Index := Scalar.indexCast arg18
  let c0 : Index := 0#32
  let c0_380 : Index := 0#32
  ![1, v226.toNat, 0, 0]
def k0_off57 (k0_t17 : Fin k0_t17_loop.trips) : Fin 5 → Nat :=
  let c0_382 : Index := 0#32
  let c0_383 : Index := 0#32
  let c12_i32_381 : BitVec 32 := 12#32
  let c0_i32_56 : BitVec 32 := 0#32
  let c1_i32_58 : BitVec 32 := 1#32
  let arg18 : BitVec 32 := Scf.iv c0_i32_56 c1_i32_58 k0_t17
  let v231 : BitVec 32 := Scalar.addi c12_i32_381 arg18
  let v232 : Index := Scalar.indexCast v231
  let c0_384 : Index := 0#32
  let c0_385 : Index := 0#32
  ![0, 0, v232.toNat, 0, 0]
def k0_off58 (k0_t17 : Fin k0_t17_loop.trips) : Fin 4 → Nat :=
  let c1_386 : Index := 1#32
  let c0_i32_56 : BitVec 32 := 0#32
  let c1_i32_58 : BitVec 32 := 1#32
  let arg18 : BitVec 32 := Scf.iv c0_i32_56 c1_i32_58 k0_t17
  let v236 : Index := Scalar.indexCast arg18
  let c0_387 : Index := 0#32
  let c128 : Index := 128#32
  ![1, v236.toNat, 0, 128]
def k0_off59 (k0_t17 : Fin k0_t17_loop.trips) : Fin 5 → Nat :=
  let c0_389 : Index := 0#32
  let c1_390 : Index := 1#32
  let c12_i32_388 : BitVec 32 := 12#32
  let c0_i32_56 : BitVec 32 := 0#32
  let c1_i32_58 : BitVec 32 := 1#32
  let arg18 : BitVec 32 := Scf.iv c0_i32_56 c1_i32_58 k0_t17
  let v241 : BitVec 32 := Scalar.addi c12_i32_388 arg18
  let v242 : Index := Scalar.indexCast v241
  let c0_391 : Index := 0#32
  let c0_392 : Index := 0#32
  ![0, 1, v242.toNat, 0, 0]
def k0_off60 (k0_t17 : Fin k0_t17_loop.trips) : Fin 4 → Nat :=
  let c1_393 : Index := 1#32
  let c0_i32_56 : BitVec 32 := 0#32
  let c1_i32_58 : BitVec 32 := 1#32
  let arg18 : BitVec 32 := Scf.iv c0_i32_56 c1_i32_58 k0_t17
  let v246 : Index := Scalar.indexCast arg18
  let c0_394 : Index := 0#32
  let c256 : Index := 256#32
  ![1, v246.toNat, 0, 256]
def k0_off61 (k0_t17 : Fin k0_t17_loop.trips) : Fin 5 → Nat :=
  let c0_396 : Index := 0#32
  let c2 : Index := 2#32
  let c12_i32_395 : BitVec 32 := 12#32
  let c0_i32_56 : BitVec 32 := 0#32
  let c1_i32_58 : BitVec 32 := 1#32
  let arg18 : BitVec 32 := Scf.iv c0_i32_56 c1_i32_58 k0_t17
  let v251 : BitVec 32 := Scalar.addi c12_i32_395 arg18
  let v252 : Index := Scalar.indexCast v251
  let c0_397 : Index := 0#32
  let c0_398 : Index := 0#32
  ![0, 2, v252.toNat, 0, 0]
def k0_off62 (k0_t17 : Fin k0_t17_loop.trips) : Fin 4 → Nat :=
  let c1_399 : Index := 1#32
  let c0_i32_56 : BitVec 32 := 0#32
  let c1_i32_58 : BitVec 32 := 1#32
  let arg18 : BitVec 32 := Scf.iv c0_i32_56 c1_i32_58 k0_t17
  let v256 : Index := Scalar.indexCast arg18
  let c0_400 : Index := 0#32
  let c384 : Index := 384#32
  ![1, v256.toNat, 0, 384]
def k0_off63 (k0_t17 : Fin k0_t17_loop.trips) : Fin 5 → Nat :=
  let c0_402 : Index := 0#32
  let c3 : Index := 3#32
  let c12_i32_401 : BitVec 32 := 12#32
  let c0_i32_56 : BitVec 32 := 0#32
  let c1_i32_58 : BitVec 32 := 1#32
  let arg18 : BitVec 32 := Scf.iv c0_i32_56 c1_i32_58 k0_t17
  let v261 : BitVec 32 := Scalar.addi c12_i32_401 arg18
  let v262 : Index := Scalar.indexCast v261
  let c0_403 : Index := 0#32
  let c0_404 : Index := 0#32
  ![0, 3, v262.toNat, 0, 0]
def k0_off64 (k0_t17 : Fin k0_t17_loop.trips) : Fin 4 → Nat :=
  let c1_405 : Index := 1#32
  let c0_i32_56 : BitVec 32 := 0#32
  let c1_i32_58 : BitVec 32 := 1#32
  let arg18 : BitVec 32 := Scf.iv c0_i32_56 c1_i32_58 k0_t17
  let v266 : Index := Scalar.indexCast arg18
  let c0_406 : Index := 0#32
  let c512 : Index := 512#32
  ![1, v266.toNat, 0, 512]
def k0_off65 (k0_t17 : Fin k0_t17_loop.trips) : Fin 5 → Nat :=
  let c0_408 : Index := 0#32
  let c4 : Index := 4#32
  let c12_i32_407 : BitVec 32 := 12#32
  let c0_i32_56 : BitVec 32 := 0#32
  let c1_i32_58 : BitVec 32 := 1#32
  let arg18 : BitVec 32 := Scf.iv c0_i32_56 c1_i32_58 k0_t17
  let v271 : BitVec 32 := Scalar.addi c12_i32_407 arg18
  let v272 : Index := Scalar.indexCast v271
  let c0_409 : Index := 0#32
  let c0_410 : Index := 0#32
  ![0, 4, v272.toNat, 0, 0]
def k0_off66 (k0_t17 : Fin k0_t17_loop.trips) : Fin 4 → Nat :=
  let c1_411 : Index := 1#32
  let c0_i32_56 : BitVec 32 := 0#32
  let c1_i32_58 : BitVec 32 := 1#32
  let arg18 : BitVec 32 := Scf.iv c0_i32_56 c1_i32_58 k0_t17
  let v276 : Index := Scalar.indexCast arg18
  let c0_412 : Index := 0#32
  let c640 : Index := 640#32
  ![1, v276.toNat, 0, 640]
def k0_off67 (k0_t17 : Fin k0_t17_loop.trips) : Fin 5 → Nat :=
  let c0_414 : Index := 0#32
  let c5 : Index := 5#32
  let c12_i32_413 : BitVec 32 := 12#32
  let c0_i32_56 : BitVec 32 := 0#32
  let c1_i32_58 : BitVec 32 := 1#32
  let arg18 : BitVec 32 := Scf.iv c0_i32_56 c1_i32_58 k0_t17
  let v281 : BitVec 32 := Scalar.addi c12_i32_413 arg18
  let v282 : Index := Scalar.indexCast v281
  let c0_415 : Index := 0#32
  let c0_416 : Index := 0#32
  ![0, 5, v282.toNat, 0, 0]
def k0_off68 (k0_t17 : Fin k0_t17_loop.trips) : Fin 4 → Nat :=
  let c1_417 : Index := 1#32
  let c0_i32_56 : BitVec 32 := 0#32
  let c1_i32_58 : BitVec 32 := 1#32
  let arg18 : BitVec 32 := Scf.iv c0_i32_56 c1_i32_58 k0_t17
  let v286 : Index := Scalar.indexCast arg18
  let c0_418 : Index := 0#32
  let c768 : Index := 768#32
  ![1, v286.toNat, 0, 768]
def k0_off69 (k0_t17 : Fin k0_t17_loop.trips) : Fin 5 → Nat :=
  let c0_420 : Index := 0#32
  let c6 : Index := 6#32
  let c12_i32_419 : BitVec 32 := 12#32
  let c0_i32_56 : BitVec 32 := 0#32
  let c1_i32_58 : BitVec 32 := 1#32
  let arg18 : BitVec 32 := Scf.iv c0_i32_56 c1_i32_58 k0_t17
  let v291 : BitVec 32 := Scalar.addi c12_i32_419 arg18
  let v292 : Index := Scalar.indexCast v291
  let c0_421 : Index := 0#32
  let c0_422 : Index := 0#32
  ![0, 6, v292.toNat, 0, 0]
def k0_off70 (k0_t17 : Fin k0_t17_loop.trips) : Fin 4 → Nat :=
  let c1_423 : Index := 1#32
  let c0_i32_56 : BitVec 32 := 0#32
  let c1_i32_58 : BitVec 32 := 1#32
  let arg18 : BitVec 32 := Scf.iv c0_i32_56 c1_i32_58 k0_t17
  let v296 : Index := Scalar.indexCast arg18
  let c0_424 : Index := 0#32
  let c896 : Index := 896#32
  ![1, v296.toNat, 0, 896]
def k0_off71 (k0_t17 : Fin k0_t17_loop.trips) : Fin 5 → Nat :=
  let c0_426 : Index := 0#32
  let c7 : Index := 7#32
  let c12_i32_425 : BitVec 32 := 12#32
  let c0_i32_56 : BitVec 32 := 0#32
  let c1_i32_58 : BitVec 32 := 1#32
  let arg18 : BitVec 32 := Scf.iv c0_i32_56 c1_i32_58 k0_t17
  let v301 : BitVec 32 := Scalar.addi c12_i32_425 arg18
  let v302 : Index := Scalar.indexCast v301
  let c0_427 : Index := 0#32
  let c0_428 : Index := 0#32
  ![0, 7, v302.toNat, 0, 0]
def k0_off72 (k0_t17 : Fin k0_t17_loop.trips) : Fin 4 → Nat :=
  let c1_429 : Index := 1#32
  let c0_i32_56 : BitVec 32 := 0#32
  let c1_i32_58 : BitVec 32 := 1#32
  let arg18 : BitVec 32 := Scf.iv c0_i32_56 c1_i32_58 k0_t17
  let v306 : Index := Scalar.indexCast arg18
  let c0_430 : Index := 0#32
  let c1024 : Index := 1024#32
  ![1, v306.toNat, 0, 1024]
def k0_off73 (k0_t17 : Fin k0_t17_loop.trips) : Fin 5 → Nat :=
  let c0_432 : Index := 0#32
  let c8 : Index := 8#32
  let c12_i32_431 : BitVec 32 := 12#32
  let c0_i32_56 : BitVec 32 := 0#32
  let c1_i32_58 : BitVec 32 := 1#32
  let arg18 : BitVec 32 := Scf.iv c0_i32_56 c1_i32_58 k0_t17
  let v311 : BitVec 32 := Scalar.addi c12_i32_431 arg18
  let v312 : Index := Scalar.indexCast v311
  let c0_433 : Index := 0#32
  let c0_434 : Index := 0#32
  ![0, 8, v312.toNat, 0, 0]
def k0_off74 (k0_t17 : Fin k0_t17_loop.trips) : Fin 4 → Nat :=
  let c1_435 : Index := 1#32
  let c0_i32_56 : BitVec 32 := 0#32
  let c1_i32_58 : BitVec 32 := 1#32
  let arg18 : BitVec 32 := Scf.iv c0_i32_56 c1_i32_58 k0_t17
  let v316 : Index := Scalar.indexCast arg18
  let c0_436 : Index := 0#32
  let c1152 : Index := 1152#32
  ![1, v316.toNat, 0, 1152]
def k0_off75 (k0_t17 : Fin k0_t17_loop.trips) : Fin 5 → Nat :=
  let c0_438 : Index := 0#32
  let c9 : Index := 9#32
  let c12_i32_437 : BitVec 32 := 12#32
  let c0_i32_56 : BitVec 32 := 0#32
  let c1_i32_58 : BitVec 32 := 1#32
  let arg18 : BitVec 32 := Scf.iv c0_i32_56 c1_i32_58 k0_t17
  let v321 : BitVec 32 := Scalar.addi c12_i32_437 arg18
  let v322 : Index := Scalar.indexCast v321
  let c0_439 : Index := 0#32
  let c0_440 : Index := 0#32
  ![0, 9, v322.toNat, 0, 0]
@[reducible] def k0_t18_loop : Scf.Loop 32 :=
  let c0_i32_75 : BitVec 32 := 0#32
  let c12_i32_76 : BitVec 32 := 12#32
  let v47 : BitVec 32 := Scalar.addi c0_i32_75 c12_i32_76
  let c1_i32_77 : BitVec 32 := 1#32
  ⟨c0_i32_75, v47, c1_i32_77⟩
def k0_off76 (k0_t18 : Fin k0_t18_loop.trips) : Fin 4 → Nat :=
  let c0 : Index := 0#32
  let c0_i32_75 : BitVec 32 := 0#32
  let c1_i32_77 : BitVec 32 := 1#32
  let arg18 : BitVec 32 := Scf.iv c0_i32_75 c1_i32_77 k0_t18
  let v226 : Index := Scalar.indexCast arg18
  let c0_380 : Index := 0#32
  let c0_381 : Index := 0#32
  ![0, v226.toNat, 0, 0]
def k0_off77 (k0_t18 : Fin k0_t18_loop.trips) : Fin 5 → Nat :=
  let c0_383 : Index := 0#32
  let c0_384 : Index := 0#32
  let c24_i32_382 : BitVec 32 := 24#32
  let c0_i32_75 : BitVec 32 := 0#32
  let c1_i32_77 : BitVec 32 := 1#32
  let arg18 : BitVec 32 := Scf.iv c0_i32_75 c1_i32_77 k0_t18
  let v231 : BitVec 32 := Scalar.addi c24_i32_382 arg18
  let v232 : Index := Scalar.indexCast v231
  let c0_385 : Index := 0#32
  let c0_386 : Index := 0#32
  ![0, 0, v232.toNat, 0, 0]
def k0_off78 (k0_t18 : Fin k0_t18_loop.trips) : Fin 4 → Nat :=
  let c0_387 : Index := 0#32
  let c0_i32_75 : BitVec 32 := 0#32
  let c1_i32_77 : BitVec 32 := 1#32
  let arg18 : BitVec 32 := Scf.iv c0_i32_75 c1_i32_77 k0_t18
  let v236 : Index := Scalar.indexCast arg18
  let c0_388 : Index := 0#32
  let c128 : Index := 128#32
  ![0, v236.toNat, 0, 128]
def k0_off79 (k0_t18 : Fin k0_t18_loop.trips) : Fin 5 → Nat :=
  let c0_390 : Index := 0#32
  let c1 : Index := 1#32
  let c24_i32_389 : BitVec 32 := 24#32
  let c0_i32_75 : BitVec 32 := 0#32
  let c1_i32_77 : BitVec 32 := 1#32
  let arg18 : BitVec 32 := Scf.iv c0_i32_75 c1_i32_77 k0_t18
  let v241 : BitVec 32 := Scalar.addi c24_i32_389 arg18
  let v242 : Index := Scalar.indexCast v241
  let c0_391 : Index := 0#32
  let c0_392 : Index := 0#32
  ![0, 1, v242.toNat, 0, 0]
def k0_off80 (k0_t18 : Fin k0_t18_loop.trips) : Fin 4 → Nat :=
  let c0_393 : Index := 0#32
  let c0_i32_75 : BitVec 32 := 0#32
  let c1_i32_77 : BitVec 32 := 1#32
  let arg18 : BitVec 32 := Scf.iv c0_i32_75 c1_i32_77 k0_t18
  let v246 : Index := Scalar.indexCast arg18
  let c0_394 : Index := 0#32
  let c256 : Index := 256#32
  ![0, v246.toNat, 0, 256]
def k0_off81 (k0_t18 : Fin k0_t18_loop.trips) : Fin 5 → Nat :=
  let c0_396 : Index := 0#32
  let c2 : Index := 2#32
  let c24_i32_395 : BitVec 32 := 24#32
  let c0_i32_75 : BitVec 32 := 0#32
  let c1_i32_77 : BitVec 32 := 1#32
  let arg18 : BitVec 32 := Scf.iv c0_i32_75 c1_i32_77 k0_t18
  let v251 : BitVec 32 := Scalar.addi c24_i32_395 arg18
  let v252 : Index := Scalar.indexCast v251
  let c0_397 : Index := 0#32
  let c0_398 : Index := 0#32
  ![0, 2, v252.toNat, 0, 0]
def k0_off82 (k0_t18 : Fin k0_t18_loop.trips) : Fin 4 → Nat :=
  let c0_399 : Index := 0#32
  let c0_i32_75 : BitVec 32 := 0#32
  let c1_i32_77 : BitVec 32 := 1#32
  let arg18 : BitVec 32 := Scf.iv c0_i32_75 c1_i32_77 k0_t18
  let v256 : Index := Scalar.indexCast arg18
  let c0_400 : Index := 0#32
  let c384 : Index := 384#32
  ![0, v256.toNat, 0, 384]
def k0_off83 (k0_t18 : Fin k0_t18_loop.trips) : Fin 5 → Nat :=
  let c0_402 : Index := 0#32
  let c3 : Index := 3#32
  let c24_i32_401 : BitVec 32 := 24#32
  let c0_i32_75 : BitVec 32 := 0#32
  let c1_i32_77 : BitVec 32 := 1#32
  let arg18 : BitVec 32 := Scf.iv c0_i32_75 c1_i32_77 k0_t18
  let v261 : BitVec 32 := Scalar.addi c24_i32_401 arg18
  let v262 : Index := Scalar.indexCast v261
  let c0_403 : Index := 0#32
  let c0_404 : Index := 0#32
  ![0, 3, v262.toNat, 0, 0]
def k0_off84 (k0_t18 : Fin k0_t18_loop.trips) : Fin 4 → Nat :=
  let c0_405 : Index := 0#32
  let c0_i32_75 : BitVec 32 := 0#32
  let c1_i32_77 : BitVec 32 := 1#32
  let arg18 : BitVec 32 := Scf.iv c0_i32_75 c1_i32_77 k0_t18
  let v266 : Index := Scalar.indexCast arg18
  let c0_406 : Index := 0#32
  let c512 : Index := 512#32
  ![0, v266.toNat, 0, 512]
def k0_off85 (k0_t18 : Fin k0_t18_loop.trips) : Fin 5 → Nat :=
  let c0_408 : Index := 0#32
  let c4 : Index := 4#32
  let c24_i32_407 : BitVec 32 := 24#32
  let c0_i32_75 : BitVec 32 := 0#32
  let c1_i32_77 : BitVec 32 := 1#32
  let arg18 : BitVec 32 := Scf.iv c0_i32_75 c1_i32_77 k0_t18
  let v271 : BitVec 32 := Scalar.addi c24_i32_407 arg18
  let v272 : Index := Scalar.indexCast v271
  let c0_409 : Index := 0#32
  let c0_410 : Index := 0#32
  ![0, 4, v272.toNat, 0, 0]
def k0_off86 (k0_t18 : Fin k0_t18_loop.trips) : Fin 4 → Nat :=
  let c0_411 : Index := 0#32
  let c0_i32_75 : BitVec 32 := 0#32
  let c1_i32_77 : BitVec 32 := 1#32
  let arg18 : BitVec 32 := Scf.iv c0_i32_75 c1_i32_77 k0_t18
  let v276 : Index := Scalar.indexCast arg18
  let c0_412 : Index := 0#32
  let c640 : Index := 640#32
  ![0, v276.toNat, 0, 640]
def k0_off87 (k0_t18 : Fin k0_t18_loop.trips) : Fin 5 → Nat :=
  let c0_414 : Index := 0#32
  let c5 : Index := 5#32
  let c24_i32_413 : BitVec 32 := 24#32
  let c0_i32_75 : BitVec 32 := 0#32
  let c1_i32_77 : BitVec 32 := 1#32
  let arg18 : BitVec 32 := Scf.iv c0_i32_75 c1_i32_77 k0_t18
  let v281 : BitVec 32 := Scalar.addi c24_i32_413 arg18
  let v282 : Index := Scalar.indexCast v281
  let c0_415 : Index := 0#32
  let c0_416 : Index := 0#32
  ![0, 5, v282.toNat, 0, 0]
def k0_off88 (k0_t18 : Fin k0_t18_loop.trips) : Fin 4 → Nat :=
  let c0_417 : Index := 0#32
  let c0_i32_75 : BitVec 32 := 0#32
  let c1_i32_77 : BitVec 32 := 1#32
  let arg18 : BitVec 32 := Scf.iv c0_i32_75 c1_i32_77 k0_t18
  let v286 : Index := Scalar.indexCast arg18
  let c0_418 : Index := 0#32
  let c768 : Index := 768#32
  ![0, v286.toNat, 0, 768]
def k0_off89 (k0_t18 : Fin k0_t18_loop.trips) : Fin 5 → Nat :=
  let c0_420 : Index := 0#32
  let c6 : Index := 6#32
  let c24_i32_419 : BitVec 32 := 24#32
  let c0_i32_75 : BitVec 32 := 0#32
  let c1_i32_77 : BitVec 32 := 1#32
  let arg18 : BitVec 32 := Scf.iv c0_i32_75 c1_i32_77 k0_t18
  let v291 : BitVec 32 := Scalar.addi c24_i32_419 arg18
  let v292 : Index := Scalar.indexCast v291
  let c0_421 : Index := 0#32
  let c0_422 : Index := 0#32
  ![0, 6, v292.toNat, 0, 0]
def k0_off90 (k0_t18 : Fin k0_t18_loop.trips) : Fin 4 → Nat :=
  let c0_423 : Index := 0#32
  let c0_i32_75 : BitVec 32 := 0#32
  let c1_i32_77 : BitVec 32 := 1#32
  let arg18 : BitVec 32 := Scf.iv c0_i32_75 c1_i32_77 k0_t18
  let v296 : Index := Scalar.indexCast arg18
  let c0_424 : Index := 0#32
  let c896 : Index := 896#32
  ![0, v296.toNat, 0, 896]
def k0_off91 (k0_t18 : Fin k0_t18_loop.trips) : Fin 5 → Nat :=
  let c0_426 : Index := 0#32
  let c7 : Index := 7#32
  let c24_i32_425 : BitVec 32 := 24#32
  let c0_i32_75 : BitVec 32 := 0#32
  let c1_i32_77 : BitVec 32 := 1#32
  let arg18 : BitVec 32 := Scf.iv c0_i32_75 c1_i32_77 k0_t18
  let v301 : BitVec 32 := Scalar.addi c24_i32_425 arg18
  let v302 : Index := Scalar.indexCast v301
  let c0_427 : Index := 0#32
  let c0_428 : Index := 0#32
  ![0, 7, v302.toNat, 0, 0]
def k0_off92 (k0_t18 : Fin k0_t18_loop.trips) : Fin 4 → Nat :=
  let c0_429 : Index := 0#32
  let c0_i32_75 : BitVec 32 := 0#32
  let c1_i32_77 : BitVec 32 := 1#32
  let arg18 : BitVec 32 := Scf.iv c0_i32_75 c1_i32_77 k0_t18
  let v306 : Index := Scalar.indexCast arg18
  let c0_430 : Index := 0#32
  let c1024 : Index := 1024#32
  ![0, v306.toNat, 0, 1024]
def k0_off93 (k0_t18 : Fin k0_t18_loop.trips) : Fin 5 → Nat :=
  let c0_432 : Index := 0#32
  let c8 : Index := 8#32
  let c24_i32_431 : BitVec 32 := 24#32
  let c0_i32_75 : BitVec 32 := 0#32
  let c1_i32_77 : BitVec 32 := 1#32
  let arg18 : BitVec 32 := Scf.iv c0_i32_75 c1_i32_77 k0_t18
  let v311 : BitVec 32 := Scalar.addi c24_i32_431 arg18
  let v312 : Index := Scalar.indexCast v311
  let c0_433 : Index := 0#32
  let c0_434 : Index := 0#32
  ![0, 8, v312.toNat, 0, 0]
def k0_off94 (k0_t18 : Fin k0_t18_loop.trips) : Fin 4 → Nat :=
  let c0_435 : Index := 0#32
  let c0_i32_75 : BitVec 32 := 0#32
  let c1_i32_77 : BitVec 32 := 1#32
  let arg18 : BitVec 32 := Scf.iv c0_i32_75 c1_i32_77 k0_t18
  let v316 : Index := Scalar.indexCast arg18
  let c0_436 : Index := 0#32
  let c1152 : Index := 1152#32
  ![0, v316.toNat, 0, 1152]
def k0_off95 (k0_t18 : Fin k0_t18_loop.trips) : Fin 5 → Nat :=
  let c0_438 : Index := 0#32
  let c9 : Index := 9#32
  let c24_i32_437 : BitVec 32 := 24#32
  let c0_i32_75 : BitVec 32 := 0#32
  let c1_i32_77 : BitVec 32 := 1#32
  let arg18 : BitVec 32 := Scf.iv c0_i32_75 c1_i32_77 k0_t18
  let v321 : BitVec 32 := Scalar.addi c24_i32_437 arg18
  let v322 : Index := Scalar.indexCast v321
  let c0_439 : Index := 0#32
  let c0_440 : Index := 0#32
  ![0, 9, v322.toNat, 0, 0]
@[reducible] def k0_t19_loop : Scf.Loop 32 :=
  let c0_i32_94 : BitVec 32 := 0#32
  let c12_i32_95 : BitVec 32 := 12#32
  let v58 : BitVec 32 := Scalar.addi c0_i32_94 c12_i32_95
  let c1_i32_96 : BitVec 32 := 1#32
  ⟨c0_i32_94, v58, c1_i32_96⟩
def k0_off96 (k0_t19 : Fin k0_t19_loop.trips) : Fin 4 → Nat :=
  let c1 : Index := 1#32
  let c0_i32_94 : BitVec 32 := 0#32
  let c1_i32_96 : BitVec 32 := 1#32
  let arg18 : BitVec 32 := Scf.iv c0_i32_94 c1_i32_96 k0_t19
  let v226 : Index := Scalar.indexCast arg18
  let c0 : Index := 0#32
  let c0_380 : Index := 0#32
  ![1, v226.toNat, 0, 0]
def k0_off97 (k0_t19 : Fin k0_t19_loop.trips) : Fin 5 → Nat :=
  let c0_382 : Index := 0#32
  let c0_383 : Index := 0#32
  let c36_i32_381 : BitVec 32 := 36#32
  let c0_i32_94 : BitVec 32 := 0#32
  let c1_i32_96 : BitVec 32 := 1#32
  let arg18 : BitVec 32 := Scf.iv c0_i32_94 c1_i32_96 k0_t19
  let v231 : BitVec 32 := Scalar.addi c36_i32_381 arg18
  let v232 : Index := Scalar.indexCast v231
  let c0_384 : Index := 0#32
  let c0_385 : Index := 0#32
  ![0, 0, v232.toNat, 0, 0]
def k0_off98 (k0_t19 : Fin k0_t19_loop.trips) : Fin 4 → Nat :=
  let c1_386 : Index := 1#32
  let c0_i32_94 : BitVec 32 := 0#32
  let c1_i32_96 : BitVec 32 := 1#32
  let arg18 : BitVec 32 := Scf.iv c0_i32_94 c1_i32_96 k0_t19
  let v236 : Index := Scalar.indexCast arg18
  let c0_387 : Index := 0#32
  let c128 : Index := 128#32
  ![1, v236.toNat, 0, 128]
def k0_off99 (k0_t19 : Fin k0_t19_loop.trips) : Fin 5 → Nat :=
  let c0_389 : Index := 0#32
  let c1_390 : Index := 1#32
  let c36_i32_388 : BitVec 32 := 36#32
  let c0_i32_94 : BitVec 32 := 0#32
  let c1_i32_96 : BitVec 32 := 1#32
  let arg18 : BitVec 32 := Scf.iv c0_i32_94 c1_i32_96 k0_t19
  let v241 : BitVec 32 := Scalar.addi c36_i32_388 arg18
  let v242 : Index := Scalar.indexCast v241
  let c0_391 : Index := 0#32
  let c0_392 : Index := 0#32
  ![0, 1, v242.toNat, 0, 0]
def k0_off100 (k0_t19 : Fin k0_t19_loop.trips) : Fin 4 → Nat :=
  let c1_393 : Index := 1#32
  let c0_i32_94 : BitVec 32 := 0#32
  let c1_i32_96 : BitVec 32 := 1#32
  let arg18 : BitVec 32 := Scf.iv c0_i32_94 c1_i32_96 k0_t19
  let v246 : Index := Scalar.indexCast arg18
  let c0_394 : Index := 0#32
  let c256 : Index := 256#32
  ![1, v246.toNat, 0, 256]
def k0_off101 (k0_t19 : Fin k0_t19_loop.trips) : Fin 5 → Nat :=
  let c0_396 : Index := 0#32
  let c2 : Index := 2#32
  let c36_i32_395 : BitVec 32 := 36#32
  let c0_i32_94 : BitVec 32 := 0#32
  let c1_i32_96 : BitVec 32 := 1#32
  let arg18 : BitVec 32 := Scf.iv c0_i32_94 c1_i32_96 k0_t19
  let v251 : BitVec 32 := Scalar.addi c36_i32_395 arg18
  let v252 : Index := Scalar.indexCast v251
  let c0_397 : Index := 0#32
  let c0_398 : Index := 0#32
  ![0, 2, v252.toNat, 0, 0]
def k0_off102 (k0_t19 : Fin k0_t19_loop.trips) : Fin 4 → Nat :=
  let c1_399 : Index := 1#32
  let c0_i32_94 : BitVec 32 := 0#32
  let c1_i32_96 : BitVec 32 := 1#32
  let arg18 : BitVec 32 := Scf.iv c0_i32_94 c1_i32_96 k0_t19
  let v256 : Index := Scalar.indexCast arg18
  let c0_400 : Index := 0#32
  let c384 : Index := 384#32
  ![1, v256.toNat, 0, 384]
def k0_off103 (k0_t19 : Fin k0_t19_loop.trips) : Fin 5 → Nat :=
  let c0_402 : Index := 0#32
  let c3 : Index := 3#32
  let c36_i32_401 : BitVec 32 := 36#32
  let c0_i32_94 : BitVec 32 := 0#32
  let c1_i32_96 : BitVec 32 := 1#32
  let arg18 : BitVec 32 := Scf.iv c0_i32_94 c1_i32_96 k0_t19
  let v261 : BitVec 32 := Scalar.addi c36_i32_401 arg18
  let v262 : Index := Scalar.indexCast v261
  let c0_403 : Index := 0#32
  let c0_404 : Index := 0#32
  ![0, 3, v262.toNat, 0, 0]
def k0_off104 (k0_t19 : Fin k0_t19_loop.trips) : Fin 4 → Nat :=
  let c1_405 : Index := 1#32
  let c0_i32_94 : BitVec 32 := 0#32
  let c1_i32_96 : BitVec 32 := 1#32
  let arg18 : BitVec 32 := Scf.iv c0_i32_94 c1_i32_96 k0_t19
  let v266 : Index := Scalar.indexCast arg18
  let c0_406 : Index := 0#32
  let c512 : Index := 512#32
  ![1, v266.toNat, 0, 512]
def k0_off105 (k0_t19 : Fin k0_t19_loop.trips) : Fin 5 → Nat :=
  let c0_408 : Index := 0#32
  let c4 : Index := 4#32
  let c36_i32_407 : BitVec 32 := 36#32
  let c0_i32_94 : BitVec 32 := 0#32
  let c1_i32_96 : BitVec 32 := 1#32
  let arg18 : BitVec 32 := Scf.iv c0_i32_94 c1_i32_96 k0_t19
  let v271 : BitVec 32 := Scalar.addi c36_i32_407 arg18
  let v272 : Index := Scalar.indexCast v271
  let c0_409 : Index := 0#32
  let c0_410 : Index := 0#32
  ![0, 4, v272.toNat, 0, 0]
def k0_off106 (k0_t19 : Fin k0_t19_loop.trips) : Fin 4 → Nat :=
  let c1_411 : Index := 1#32
  let c0_i32_94 : BitVec 32 := 0#32
  let c1_i32_96 : BitVec 32 := 1#32
  let arg18 : BitVec 32 := Scf.iv c0_i32_94 c1_i32_96 k0_t19
  let v276 : Index := Scalar.indexCast arg18
  let c0_412 : Index := 0#32
  let c640 : Index := 640#32
  ![1, v276.toNat, 0, 640]
def k0_off107 (k0_t19 : Fin k0_t19_loop.trips) : Fin 5 → Nat :=
  let c0_414 : Index := 0#32
  let c5 : Index := 5#32
  let c36_i32_413 : BitVec 32 := 36#32
  let c0_i32_94 : BitVec 32 := 0#32
  let c1_i32_96 : BitVec 32 := 1#32
  let arg18 : BitVec 32 := Scf.iv c0_i32_94 c1_i32_96 k0_t19
  let v281 : BitVec 32 := Scalar.addi c36_i32_413 arg18
  let v282 : Index := Scalar.indexCast v281
  let c0_415 : Index := 0#32
  let c0_416 : Index := 0#32
  ![0, 5, v282.toNat, 0, 0]
def k0_off108 (k0_t19 : Fin k0_t19_loop.trips) : Fin 4 → Nat :=
  let c1_417 : Index := 1#32
  let c0_i32_94 : BitVec 32 := 0#32
  let c1_i32_96 : BitVec 32 := 1#32
  let arg18 : BitVec 32 := Scf.iv c0_i32_94 c1_i32_96 k0_t19
  let v286 : Index := Scalar.indexCast arg18
  let c0_418 : Index := 0#32
  let c768 : Index := 768#32
  ![1, v286.toNat, 0, 768]
def k0_off109 (k0_t19 : Fin k0_t19_loop.trips) : Fin 5 → Nat :=
  let c0_420 : Index := 0#32
  let c6 : Index := 6#32
  let c36_i32_419 : BitVec 32 := 36#32
  let c0_i32_94 : BitVec 32 := 0#32
  let c1_i32_96 : BitVec 32 := 1#32
  let arg18 : BitVec 32 := Scf.iv c0_i32_94 c1_i32_96 k0_t19
  let v291 : BitVec 32 := Scalar.addi c36_i32_419 arg18
  let v292 : Index := Scalar.indexCast v291
  let c0_421 : Index := 0#32
  let c0_422 : Index := 0#32
  ![0, 6, v292.toNat, 0, 0]
def k0_off110 (k0_t19 : Fin k0_t19_loop.trips) : Fin 4 → Nat :=
  let c1_423 : Index := 1#32
  let c0_i32_94 : BitVec 32 := 0#32
  let c1_i32_96 : BitVec 32 := 1#32
  let arg18 : BitVec 32 := Scf.iv c0_i32_94 c1_i32_96 k0_t19
  let v296 : Index := Scalar.indexCast arg18
  let c0_424 : Index := 0#32
  let c896 : Index := 896#32
  ![1, v296.toNat, 0, 896]
def k0_off111 (k0_t19 : Fin k0_t19_loop.trips) : Fin 5 → Nat :=
  let c0_426 : Index := 0#32
  let c7 : Index := 7#32
  let c36_i32_425 : BitVec 32 := 36#32
  let c0_i32_94 : BitVec 32 := 0#32
  let c1_i32_96 : BitVec 32 := 1#32
  let arg18 : BitVec 32 := Scf.iv c0_i32_94 c1_i32_96 k0_t19
  let v301 : BitVec 32 := Scalar.addi c36_i32_425 arg18
  let v302 : Index := Scalar.indexCast v301
  let c0_427 : Index := 0#32
  let c0_428 : Index := 0#32
  ![0, 7, v302.toNat, 0, 0]
def k0_off112 (k0_t19 : Fin k0_t19_loop.trips) : Fin 4 → Nat :=
  let c1_429 : Index := 1#32
  let c0_i32_94 : BitVec 32 := 0#32
  let c1_i32_96 : BitVec 32 := 1#32
  let arg18 : BitVec 32 := Scf.iv c0_i32_94 c1_i32_96 k0_t19
  let v306 : Index := Scalar.indexCast arg18
  let c0_430 : Index := 0#32
  let c1024 : Index := 1024#32
  ![1, v306.toNat, 0, 1024]
def k0_off113 (k0_t19 : Fin k0_t19_loop.trips) : Fin 5 → Nat :=
  let c0_432 : Index := 0#32
  let c8 : Index := 8#32
  let c36_i32_431 : BitVec 32 := 36#32
  let c0_i32_94 : BitVec 32 := 0#32
  let c1_i32_96 : BitVec 32 := 1#32
  let arg18 : BitVec 32 := Scf.iv c0_i32_94 c1_i32_96 k0_t19
  let v311 : BitVec 32 := Scalar.addi c36_i32_431 arg18
  let v312 : Index := Scalar.indexCast v311
  let c0_433 : Index := 0#32
  let c0_434 : Index := 0#32
  ![0, 8, v312.toNat, 0, 0]
def k0_off114 (k0_t19 : Fin k0_t19_loop.trips) : Fin 4 → Nat :=
  let c1_435 : Index := 1#32
  let c0_i32_94 : BitVec 32 := 0#32
  let c1_i32_96 : BitVec 32 := 1#32
  let arg18 : BitVec 32 := Scf.iv c0_i32_94 c1_i32_96 k0_t19
  let v316 : Index := Scalar.indexCast arg18
  let c0_436 : Index := 0#32
  let c1152 : Index := 1152#32
  ![1, v316.toNat, 0, 1152]
def k0_off115 (k0_t19 : Fin k0_t19_loop.trips) : Fin 5 → Nat :=
  let c0_438 : Index := 0#32
  let c9 : Index := 9#32
  let c36_i32_437 : BitVec 32 := 36#32
  let c0_i32_94 : BitVec 32 := 0#32
  let c1_i32_96 : BitVec 32 := 1#32
  let arg18 : BitVec 32 := Scf.iv c0_i32_94 c1_i32_96 k0_t19
  let v321 : BitVec 32 := Scalar.addi c36_i32_437 arg18
  let v322 : Index := Scalar.indexCast v321
  let c0_439 : Index := 0#32
  let c0_440 : Index := 0#32
  ![0, 9, v322.toNat, 0, 0]
@[reducible] def k0_t20_loop : Scf.Loop 32 :=
  let c0_i32_113 : BitVec 32 := 0#32
  let c12_i32_114 : BitVec 32 := 12#32
  let v69 : BitVec 32 := Scalar.addi c0_i32_113 c12_i32_114
  let c1_i32_115 : BitVec 32 := 1#32
  ⟨c0_i32_113, v69, c1_i32_115⟩
def k0_off116 (k0_t20 : Fin k0_t20_loop.trips) : Fin 4 → Nat :=
  let c0 : Index := 0#32
  let c0_i32_113 : BitVec 32 := 0#32
  let c1_i32_115 : BitVec 32 := 1#32
  let arg18 : BitVec 32 := Scf.iv c0_i32_113 c1_i32_115 k0_t20
  let v226 : Index := Scalar.indexCast arg18
  let c0_380 : Index := 0#32
  let c0_381 : Index := 0#32
  ![0, v226.toNat, 0, 0]
def k0_off117 (k0_t20 : Fin k0_t20_loop.trips) : Fin 5 → Nat :=
  let c0_383 : Index := 0#32
  let c0_384 : Index := 0#32
  let c48_i32_382 : BitVec 32 := 48#32
  let c0_i32_113 : BitVec 32 := 0#32
  let c1_i32_115 : BitVec 32 := 1#32
  let arg18 : BitVec 32 := Scf.iv c0_i32_113 c1_i32_115 k0_t20
  let v231 : BitVec 32 := Scalar.addi c48_i32_382 arg18
  let v232 : Index := Scalar.indexCast v231
  let c0_385 : Index := 0#32
  let c0_386 : Index := 0#32
  ![0, 0, v232.toNat, 0, 0]
def k0_off118 (k0_t20 : Fin k0_t20_loop.trips) : Fin 4 → Nat :=
  let c0_387 : Index := 0#32
  let c0_i32_113 : BitVec 32 := 0#32
  let c1_i32_115 : BitVec 32 := 1#32
  let arg18 : BitVec 32 := Scf.iv c0_i32_113 c1_i32_115 k0_t20
  let v236 : Index := Scalar.indexCast arg18
  let c0_388 : Index := 0#32
  let c128 : Index := 128#32
  ![0, v236.toNat, 0, 128]
def k0_off119 (k0_t20 : Fin k0_t20_loop.trips) : Fin 5 → Nat :=
  let c0_390 : Index := 0#32
  let c1 : Index := 1#32
  let c48_i32_389 : BitVec 32 := 48#32
  let c0_i32_113 : BitVec 32 := 0#32
  let c1_i32_115 : BitVec 32 := 1#32
  let arg18 : BitVec 32 := Scf.iv c0_i32_113 c1_i32_115 k0_t20
  let v241 : BitVec 32 := Scalar.addi c48_i32_389 arg18
  let v242 : Index := Scalar.indexCast v241
  let c0_391 : Index := 0#32
  let c0_392 : Index := 0#32
  ![0, 1, v242.toNat, 0, 0]
def k0_off120 (k0_t20 : Fin k0_t20_loop.trips) : Fin 4 → Nat :=
  let c0_393 : Index := 0#32
  let c0_i32_113 : BitVec 32 := 0#32
  let c1_i32_115 : BitVec 32 := 1#32
  let arg18 : BitVec 32 := Scf.iv c0_i32_113 c1_i32_115 k0_t20
  let v246 : Index := Scalar.indexCast arg18
  let c0_394 : Index := 0#32
  let c256 : Index := 256#32
  ![0, v246.toNat, 0, 256]
def k0_off121 (k0_t20 : Fin k0_t20_loop.trips) : Fin 5 → Nat :=
  let c0_396 : Index := 0#32
  let c2 : Index := 2#32
  let c48_i32_395 : BitVec 32 := 48#32
  let c0_i32_113 : BitVec 32 := 0#32
  let c1_i32_115 : BitVec 32 := 1#32
  let arg18 : BitVec 32 := Scf.iv c0_i32_113 c1_i32_115 k0_t20
  let v251 : BitVec 32 := Scalar.addi c48_i32_395 arg18
  let v252 : Index := Scalar.indexCast v251
  let c0_397 : Index := 0#32
  let c0_398 : Index := 0#32
  ![0, 2, v252.toNat, 0, 0]
def k0_off122 (k0_t20 : Fin k0_t20_loop.trips) : Fin 4 → Nat :=
  let c0_399 : Index := 0#32
  let c0_i32_113 : BitVec 32 := 0#32
  let c1_i32_115 : BitVec 32 := 1#32
  let arg18 : BitVec 32 := Scf.iv c0_i32_113 c1_i32_115 k0_t20
  let v256 : Index := Scalar.indexCast arg18
  let c0_400 : Index := 0#32
  let c384 : Index := 384#32
  ![0, v256.toNat, 0, 384]
def k0_off123 (k0_t20 : Fin k0_t20_loop.trips) : Fin 5 → Nat :=
  let c0_402 : Index := 0#32
  let c3 : Index := 3#32
  let c48_i32_401 : BitVec 32 := 48#32
  let c0_i32_113 : BitVec 32 := 0#32
  let c1_i32_115 : BitVec 32 := 1#32
  let arg18 : BitVec 32 := Scf.iv c0_i32_113 c1_i32_115 k0_t20
  let v261 : BitVec 32 := Scalar.addi c48_i32_401 arg18
  let v262 : Index := Scalar.indexCast v261
  let c0_403 : Index := 0#32
  let c0_404 : Index := 0#32
  ![0, 3, v262.toNat, 0, 0]
def k0_off124 (k0_t20 : Fin k0_t20_loop.trips) : Fin 4 → Nat :=
  let c0_405 : Index := 0#32
  let c0_i32_113 : BitVec 32 := 0#32
  let c1_i32_115 : BitVec 32 := 1#32
  let arg18 : BitVec 32 := Scf.iv c0_i32_113 c1_i32_115 k0_t20
  let v266 : Index := Scalar.indexCast arg18
  let c0_406 : Index := 0#32
  let c512 : Index := 512#32
  ![0, v266.toNat, 0, 512]
def k0_off125 (k0_t20 : Fin k0_t20_loop.trips) : Fin 5 → Nat :=
  let c0_408 : Index := 0#32
  let c4 : Index := 4#32
  let c48_i32_407 : BitVec 32 := 48#32
  let c0_i32_113 : BitVec 32 := 0#32
  let c1_i32_115 : BitVec 32 := 1#32
  let arg18 : BitVec 32 := Scf.iv c0_i32_113 c1_i32_115 k0_t20
  let v271 : BitVec 32 := Scalar.addi c48_i32_407 arg18
  let v272 : Index := Scalar.indexCast v271
  let c0_409 : Index := 0#32
  let c0_410 : Index := 0#32
  ![0, 4, v272.toNat, 0, 0]
def k0_off126 (k0_t20 : Fin k0_t20_loop.trips) : Fin 4 → Nat :=
  let c0_411 : Index := 0#32
  let c0_i32_113 : BitVec 32 := 0#32
  let c1_i32_115 : BitVec 32 := 1#32
  let arg18 : BitVec 32 := Scf.iv c0_i32_113 c1_i32_115 k0_t20
  let v276 : Index := Scalar.indexCast arg18
  let c0_412 : Index := 0#32
  let c640 : Index := 640#32
  ![0, v276.toNat, 0, 640]
def k0_off127 (k0_t20 : Fin k0_t20_loop.trips) : Fin 5 → Nat :=
  let c0_414 : Index := 0#32
  let c5 : Index := 5#32
  let c48_i32_413 : BitVec 32 := 48#32
  let c0_i32_113 : BitVec 32 := 0#32
  let c1_i32_115 : BitVec 32 := 1#32
  let arg18 : BitVec 32 := Scf.iv c0_i32_113 c1_i32_115 k0_t20
  let v281 : BitVec 32 := Scalar.addi c48_i32_413 arg18
  let v282 : Index := Scalar.indexCast v281
  let c0_415 : Index := 0#32
  let c0_416 : Index := 0#32
  ![0, 5, v282.toNat, 0, 0]
def k0_off128 (k0_t20 : Fin k0_t20_loop.trips) : Fin 4 → Nat :=
  let c0_417 : Index := 0#32
  let c0_i32_113 : BitVec 32 := 0#32
  let c1_i32_115 : BitVec 32 := 1#32
  let arg18 : BitVec 32 := Scf.iv c0_i32_113 c1_i32_115 k0_t20
  let v286 : Index := Scalar.indexCast arg18
  let c0_418 : Index := 0#32
  let c768 : Index := 768#32
  ![0, v286.toNat, 0, 768]
def k0_off129 (k0_t20 : Fin k0_t20_loop.trips) : Fin 5 → Nat :=
  let c0_420 : Index := 0#32
  let c6 : Index := 6#32
  let c48_i32_419 : BitVec 32 := 48#32
  let c0_i32_113 : BitVec 32 := 0#32
  let c1_i32_115 : BitVec 32 := 1#32
  let arg18 : BitVec 32 := Scf.iv c0_i32_113 c1_i32_115 k0_t20
  let v291 : BitVec 32 := Scalar.addi c48_i32_419 arg18
  let v292 : Index := Scalar.indexCast v291
  let c0_421 : Index := 0#32
  let c0_422 : Index := 0#32
  ![0, 6, v292.toNat, 0, 0]
def k0_off130 (k0_t20 : Fin k0_t20_loop.trips) : Fin 4 → Nat :=
  let c0_423 : Index := 0#32
  let c0_i32_113 : BitVec 32 := 0#32
  let c1_i32_115 : BitVec 32 := 1#32
  let arg18 : BitVec 32 := Scf.iv c0_i32_113 c1_i32_115 k0_t20
  let v296 : Index := Scalar.indexCast arg18
  let c0_424 : Index := 0#32
  let c896 : Index := 896#32
  ![0, v296.toNat, 0, 896]
def k0_off131 (k0_t20 : Fin k0_t20_loop.trips) : Fin 5 → Nat :=
  let c0_426 : Index := 0#32
  let c7 : Index := 7#32
  let c48_i32_425 : BitVec 32 := 48#32
  let c0_i32_113 : BitVec 32 := 0#32
  let c1_i32_115 : BitVec 32 := 1#32
  let arg18 : BitVec 32 := Scf.iv c0_i32_113 c1_i32_115 k0_t20
  let v301 : BitVec 32 := Scalar.addi c48_i32_425 arg18
  let v302 : Index := Scalar.indexCast v301
  let c0_427 : Index := 0#32
  let c0_428 : Index := 0#32
  ![0, 7, v302.toNat, 0, 0]
def k0_off132 (k0_t20 : Fin k0_t20_loop.trips) : Fin 4 → Nat :=
  let c0_429 : Index := 0#32
  let c0_i32_113 : BitVec 32 := 0#32
  let c1_i32_115 : BitVec 32 := 1#32
  let arg18 : BitVec 32 := Scf.iv c0_i32_113 c1_i32_115 k0_t20
  let v306 : Index := Scalar.indexCast arg18
  let c0_430 : Index := 0#32
  let c1024 : Index := 1024#32
  ![0, v306.toNat, 0, 1024]
def k0_off133 (k0_t20 : Fin k0_t20_loop.trips) : Fin 5 → Nat :=
  let c0_432 : Index := 0#32
  let c8 : Index := 8#32
  let c48_i32_431 : BitVec 32 := 48#32
  let c0_i32_113 : BitVec 32 := 0#32
  let c1_i32_115 : BitVec 32 := 1#32
  let arg18 : BitVec 32 := Scf.iv c0_i32_113 c1_i32_115 k0_t20
  let v311 : BitVec 32 := Scalar.addi c48_i32_431 arg18
  let v312 : Index := Scalar.indexCast v311
  let c0_433 : Index := 0#32
  let c0_434 : Index := 0#32
  ![0, 8, v312.toNat, 0, 0]
def k0_off134 (k0_t20 : Fin k0_t20_loop.trips) : Fin 4 → Nat :=
  let c0_435 : Index := 0#32
  let c0_i32_113 : BitVec 32 := 0#32
  let c1_i32_115 : BitVec 32 := 1#32
  let arg18 : BitVec 32 := Scf.iv c0_i32_113 c1_i32_115 k0_t20
  let v316 : Index := Scalar.indexCast arg18
  let c0_436 : Index := 0#32
  let c1152 : Index := 1152#32
  ![0, v316.toNat, 0, 1152]
def k0_off135 (k0_t20 : Fin k0_t20_loop.trips) : Fin 5 → Nat :=
  let c0_438 : Index := 0#32
  let c9 : Index := 9#32
  let c48_i32_437 : BitVec 32 := 48#32
  let c0_i32_113 : BitVec 32 := 0#32
  let c1_i32_115 : BitVec 32 := 1#32
  let arg18 : BitVec 32 := Scf.iv c0_i32_113 c1_i32_115 k0_t20
  let v321 : BitVec 32 := Scalar.addi c48_i32_437 arg18
  let v322 : Index := Scalar.indexCast v321
  let c0_439 : Index := 0#32
  let c0_440 : Index := 0#32
  ![0, 9, v322.toNat, 0, 0]
@[reducible] def k0_t21_loop : Scf.Loop 32 :=
  let c0_i32_132 : BitVec 32 := 0#32
  let c12_i32_133 : BitVec 32 := 12#32
  let v80 : BitVec 32 := Scalar.addi c0_i32_132 c12_i32_133
  let c1_i32_134 : BitVec 32 := 1#32
  ⟨c0_i32_132, v80, c1_i32_134⟩
def k0_off136 (k0_t21 : Fin k0_t21_loop.trips) : Fin 4 → Nat :=
  let c1 : Index := 1#32
  let c0_i32_132 : BitVec 32 := 0#32
  let c1_i32_134 : BitVec 32 := 1#32
  let arg18 : BitVec 32 := Scf.iv c0_i32_132 c1_i32_134 k0_t21
  let v226 : Index := Scalar.indexCast arg18
  let c0 : Index := 0#32
  let c0_380 : Index := 0#32
  ![1, v226.toNat, 0, 0]
def k0_off137 (k0_t21 : Fin k0_t21_loop.trips) : Fin 5 → Nat :=
  let c0_382 : Index := 0#32
  let c0_383 : Index := 0#32
  let c60_i32_381 : BitVec 32 := 60#32
  let c0_i32_132 : BitVec 32 := 0#32
  let c1_i32_134 : BitVec 32 := 1#32
  let arg18 : BitVec 32 := Scf.iv c0_i32_132 c1_i32_134 k0_t21
  let v231 : BitVec 32 := Scalar.addi c60_i32_381 arg18
  let v232 : Index := Scalar.indexCast v231
  let c0_384 : Index := 0#32
  let c0_385 : Index := 0#32
  ![0, 0, v232.toNat, 0, 0]
def k0_off138 (k0_t21 : Fin k0_t21_loop.trips) : Fin 4 → Nat :=
  let c1_386 : Index := 1#32
  let c0_i32_132 : BitVec 32 := 0#32
  let c1_i32_134 : BitVec 32 := 1#32
  let arg18 : BitVec 32 := Scf.iv c0_i32_132 c1_i32_134 k0_t21
  let v236 : Index := Scalar.indexCast arg18
  let c0_387 : Index := 0#32
  let c128 : Index := 128#32
  ![1, v236.toNat, 0, 128]
def k0_off139 (k0_t21 : Fin k0_t21_loop.trips) : Fin 5 → Nat :=
  let c0_389 : Index := 0#32
  let c1_390 : Index := 1#32
  let c60_i32_388 : BitVec 32 := 60#32
  let c0_i32_132 : BitVec 32 := 0#32
  let c1_i32_134 : BitVec 32 := 1#32
  let arg18 : BitVec 32 := Scf.iv c0_i32_132 c1_i32_134 k0_t21
  let v241 : BitVec 32 := Scalar.addi c60_i32_388 arg18
  let v242 : Index := Scalar.indexCast v241
  let c0_391 : Index := 0#32
  let c0_392 : Index := 0#32
  ![0, 1, v242.toNat, 0, 0]
def k0_off140 (k0_t21 : Fin k0_t21_loop.trips) : Fin 4 → Nat :=
  let c1_393 : Index := 1#32
  let c0_i32_132 : BitVec 32 := 0#32
  let c1_i32_134 : BitVec 32 := 1#32
  let arg18 : BitVec 32 := Scf.iv c0_i32_132 c1_i32_134 k0_t21
  let v246 : Index := Scalar.indexCast arg18
  let c0_394 : Index := 0#32
  let c256 : Index := 256#32
  ![1, v246.toNat, 0, 256]
def k0_off141 (k0_t21 : Fin k0_t21_loop.trips) : Fin 5 → Nat :=
  let c0_396 : Index := 0#32
  let c2 : Index := 2#32
  let c60_i32_395 : BitVec 32 := 60#32
  let c0_i32_132 : BitVec 32 := 0#32
  let c1_i32_134 : BitVec 32 := 1#32
  let arg18 : BitVec 32 := Scf.iv c0_i32_132 c1_i32_134 k0_t21
  let v251 : BitVec 32 := Scalar.addi c60_i32_395 arg18
  let v252 : Index := Scalar.indexCast v251
  let c0_397 : Index := 0#32
  let c0_398 : Index := 0#32
  ![0, 2, v252.toNat, 0, 0]
def k0_off142 (k0_t21 : Fin k0_t21_loop.trips) : Fin 4 → Nat :=
  let c1_399 : Index := 1#32
  let c0_i32_132 : BitVec 32 := 0#32
  let c1_i32_134 : BitVec 32 := 1#32
  let arg18 : BitVec 32 := Scf.iv c0_i32_132 c1_i32_134 k0_t21
  let v256 : Index := Scalar.indexCast arg18
  let c0_400 : Index := 0#32
  let c384 : Index := 384#32
  ![1, v256.toNat, 0, 384]
def k0_off143 (k0_t21 : Fin k0_t21_loop.trips) : Fin 5 → Nat :=
  let c0_402 : Index := 0#32
  let c3 : Index := 3#32
  let c60_i32_401 : BitVec 32 := 60#32
  let c0_i32_132 : BitVec 32 := 0#32
  let c1_i32_134 : BitVec 32 := 1#32
  let arg18 : BitVec 32 := Scf.iv c0_i32_132 c1_i32_134 k0_t21
  let v261 : BitVec 32 := Scalar.addi c60_i32_401 arg18
  let v262 : Index := Scalar.indexCast v261
  let c0_403 : Index := 0#32
  let c0_404 : Index := 0#32
  ![0, 3, v262.toNat, 0, 0]
def k0_off144 (k0_t21 : Fin k0_t21_loop.trips) : Fin 4 → Nat :=
  let c1_405 : Index := 1#32
  let c0_i32_132 : BitVec 32 := 0#32
  let c1_i32_134 : BitVec 32 := 1#32
  let arg18 : BitVec 32 := Scf.iv c0_i32_132 c1_i32_134 k0_t21
  let v266 : Index := Scalar.indexCast arg18
  let c0_406 : Index := 0#32
  let c512 : Index := 512#32
  ![1, v266.toNat, 0, 512]
def k0_off145 (k0_t21 : Fin k0_t21_loop.trips) : Fin 5 → Nat :=
  let c0_408 : Index := 0#32
  let c4 : Index := 4#32
  let c60_i32_407 : BitVec 32 := 60#32
  let c0_i32_132 : BitVec 32 := 0#32
  let c1_i32_134 : BitVec 32 := 1#32
  let arg18 : BitVec 32 := Scf.iv c0_i32_132 c1_i32_134 k0_t21
  let v271 : BitVec 32 := Scalar.addi c60_i32_407 arg18
  let v272 : Index := Scalar.indexCast v271
  let c0_409 : Index := 0#32
  let c0_410 : Index := 0#32
  ![0, 4, v272.toNat, 0, 0]
def k0_off146 (k0_t21 : Fin k0_t21_loop.trips) : Fin 4 → Nat :=
  let c1_411 : Index := 1#32
  let c0_i32_132 : BitVec 32 := 0#32
  let c1_i32_134 : BitVec 32 := 1#32
  let arg18 : BitVec 32 := Scf.iv c0_i32_132 c1_i32_134 k0_t21
  let v276 : Index := Scalar.indexCast arg18
  let c0_412 : Index := 0#32
  let c640 : Index := 640#32
  ![1, v276.toNat, 0, 640]
def k0_off147 (k0_t21 : Fin k0_t21_loop.trips) : Fin 5 → Nat :=
  let c0_414 : Index := 0#32
  let c5 : Index := 5#32
  let c60_i32_413 : BitVec 32 := 60#32
  let c0_i32_132 : BitVec 32 := 0#32
  let c1_i32_134 : BitVec 32 := 1#32
  let arg18 : BitVec 32 := Scf.iv c0_i32_132 c1_i32_134 k0_t21
  let v281 : BitVec 32 := Scalar.addi c60_i32_413 arg18
  let v282 : Index := Scalar.indexCast v281
  let c0_415 : Index := 0#32
  let c0_416 : Index := 0#32
  ![0, 5, v282.toNat, 0, 0]
def k0_off148 (k0_t21 : Fin k0_t21_loop.trips) : Fin 4 → Nat :=
  let c1_417 : Index := 1#32
  let c0_i32_132 : BitVec 32 := 0#32
  let c1_i32_134 : BitVec 32 := 1#32
  let arg18 : BitVec 32 := Scf.iv c0_i32_132 c1_i32_134 k0_t21
  let v286 : Index := Scalar.indexCast arg18
  let c0_418 : Index := 0#32
  let c768 : Index := 768#32
  ![1, v286.toNat, 0, 768]
def k0_off149 (k0_t21 : Fin k0_t21_loop.trips) : Fin 5 → Nat :=
  let c0_420 : Index := 0#32
  let c6 : Index := 6#32
  let c60_i32_419 : BitVec 32 := 60#32
  let c0_i32_132 : BitVec 32 := 0#32
  let c1_i32_134 : BitVec 32 := 1#32
  let arg18 : BitVec 32 := Scf.iv c0_i32_132 c1_i32_134 k0_t21
  let v291 : BitVec 32 := Scalar.addi c60_i32_419 arg18
  let v292 : Index := Scalar.indexCast v291
  let c0_421 : Index := 0#32
  let c0_422 : Index := 0#32
  ![0, 6, v292.toNat, 0, 0]
def k0_off150 (k0_t21 : Fin k0_t21_loop.trips) : Fin 4 → Nat :=
  let c1_423 : Index := 1#32
  let c0_i32_132 : BitVec 32 := 0#32
  let c1_i32_134 : BitVec 32 := 1#32
  let arg18 : BitVec 32 := Scf.iv c0_i32_132 c1_i32_134 k0_t21
  let v296 : Index := Scalar.indexCast arg18
  let c0_424 : Index := 0#32
  let c896 : Index := 896#32
  ![1, v296.toNat, 0, 896]
def k0_off151 (k0_t21 : Fin k0_t21_loop.trips) : Fin 5 → Nat :=
  let c0_426 : Index := 0#32
  let c7 : Index := 7#32
  let c60_i32_425 : BitVec 32 := 60#32
  let c0_i32_132 : BitVec 32 := 0#32
  let c1_i32_134 : BitVec 32 := 1#32
  let arg18 : BitVec 32 := Scf.iv c0_i32_132 c1_i32_134 k0_t21
  let v301 : BitVec 32 := Scalar.addi c60_i32_425 arg18
  let v302 : Index := Scalar.indexCast v301
  let c0_427 : Index := 0#32
  let c0_428 : Index := 0#32
  ![0, 7, v302.toNat, 0, 0]
def k0_off152 (k0_t21 : Fin k0_t21_loop.trips) : Fin 4 → Nat :=
  let c1_429 : Index := 1#32
  let c0_i32_132 : BitVec 32 := 0#32
  let c1_i32_134 : BitVec 32 := 1#32
  let arg18 : BitVec 32 := Scf.iv c0_i32_132 c1_i32_134 k0_t21
  let v306 : Index := Scalar.indexCast arg18
  let c0_430 : Index := 0#32
  let c1024 : Index := 1024#32
  ![1, v306.toNat, 0, 1024]
def k0_off153 (k0_t21 : Fin k0_t21_loop.trips) : Fin 5 → Nat :=
  let c0_432 : Index := 0#32
  let c8 : Index := 8#32
  let c60_i32_431 : BitVec 32 := 60#32
  let c0_i32_132 : BitVec 32 := 0#32
  let c1_i32_134 : BitVec 32 := 1#32
  let arg18 : BitVec 32 := Scf.iv c0_i32_132 c1_i32_134 k0_t21
  let v311 : BitVec 32 := Scalar.addi c60_i32_431 arg18
  let v312 : Index := Scalar.indexCast v311
  let c0_433 : Index := 0#32
  let c0_434 : Index := 0#32
  ![0, 8, v312.toNat, 0, 0]
def k0_off154 (k0_t21 : Fin k0_t21_loop.trips) : Fin 4 → Nat :=
  let c1_435 : Index := 1#32
  let c0_i32_132 : BitVec 32 := 0#32
  let c1_i32_134 : BitVec 32 := 1#32
  let arg18 : BitVec 32 := Scf.iv c0_i32_132 c1_i32_134 k0_t21
  let v316 : Index := Scalar.indexCast arg18
  let c0_436 : Index := 0#32
  let c1152 : Index := 1152#32
  ![1, v316.toNat, 0, 1152]
def k0_off155 (k0_t21 : Fin k0_t21_loop.trips) : Fin 5 → Nat :=
  let c0_438 : Index := 0#32
  let c9 : Index := 9#32
  let c60_i32_437 : BitVec 32 := 60#32
  let c0_i32_132 : BitVec 32 := 0#32
  let c1_i32_134 : BitVec 32 := 1#32
  let arg18 : BitVec 32 := Scf.iv c0_i32_132 c1_i32_134 k0_t21
  let v321 : BitVec 32 := Scalar.addi c60_i32_437 arg18
  let v322 : Index := Scalar.indexCast v321
  let c0_439 : Index := 0#32
  let c0_440 : Index := 0#32
  ![0, 9, v322.toNat, 0, 0]
@[reducible] def k0_t22_loop : Scf.Loop 32 :=
  let c0_i32_151 : BitVec 32 := 0#32
  let c12_i32_152 : BitVec 32 := 12#32
  let v91 : BitVec 32 := Scalar.addi c0_i32_151 c12_i32_152
  let c1_i32_153 : BitVec 32 := 1#32
  ⟨c0_i32_151, v91, c1_i32_153⟩
def k0_off156 (k0_t22 : Fin k0_t22_loop.trips) : Fin 4 → Nat :=
  let c0 : Index := 0#32
  let c0_i32_151 : BitVec 32 := 0#32
  let c1_i32_153 : BitVec 32 := 1#32
  let arg18 : BitVec 32 := Scf.iv c0_i32_151 c1_i32_153 k0_t22
  let v226 : Index := Scalar.indexCast arg18
  let c0_380 : Index := 0#32
  let c0_381 : Index := 0#32
  ![0, v226.toNat, 0, 0]
def k0_off157 (k0_t22 : Fin k0_t22_loop.trips) : Fin 5 → Nat :=
  let c0_383 : Index := 0#32
  let c0_384 : Index := 0#32
  let c72_i32_382 : BitVec 32 := 72#32
  let c0_i32_151 : BitVec 32 := 0#32
  let c1_i32_153 : BitVec 32 := 1#32
  let arg18 : BitVec 32 := Scf.iv c0_i32_151 c1_i32_153 k0_t22
  let v231 : BitVec 32 := Scalar.addi c72_i32_382 arg18
  let v232 : Index := Scalar.indexCast v231
  let c0_385 : Index := 0#32
  let c0_386 : Index := 0#32
  ![0, 0, v232.toNat, 0, 0]
def k0_off158 (k0_t22 : Fin k0_t22_loop.trips) : Fin 4 → Nat :=
  let c0_387 : Index := 0#32
  let c0_i32_151 : BitVec 32 := 0#32
  let c1_i32_153 : BitVec 32 := 1#32
  let arg18 : BitVec 32 := Scf.iv c0_i32_151 c1_i32_153 k0_t22
  let v236 : Index := Scalar.indexCast arg18
  let c0_388 : Index := 0#32
  let c128 : Index := 128#32
  ![0, v236.toNat, 0, 128]
def k0_off159 (k0_t22 : Fin k0_t22_loop.trips) : Fin 5 → Nat :=
  let c0_390 : Index := 0#32
  let c1 : Index := 1#32
  let c72_i32_389 : BitVec 32 := 72#32
  let c0_i32_151 : BitVec 32 := 0#32
  let c1_i32_153 : BitVec 32 := 1#32
  let arg18 : BitVec 32 := Scf.iv c0_i32_151 c1_i32_153 k0_t22
  let v241 : BitVec 32 := Scalar.addi c72_i32_389 arg18
  let v242 : Index := Scalar.indexCast v241
  let c0_391 : Index := 0#32
  let c0_392 : Index := 0#32
  ![0, 1, v242.toNat, 0, 0]
def k0_off160 (k0_t22 : Fin k0_t22_loop.trips) : Fin 4 → Nat :=
  let c0_393 : Index := 0#32
  let c0_i32_151 : BitVec 32 := 0#32
  let c1_i32_153 : BitVec 32 := 1#32
  let arg18 : BitVec 32 := Scf.iv c0_i32_151 c1_i32_153 k0_t22
  let v246 : Index := Scalar.indexCast arg18
  let c0_394 : Index := 0#32
  let c256 : Index := 256#32
  ![0, v246.toNat, 0, 256]
def k0_off161 (k0_t22 : Fin k0_t22_loop.trips) : Fin 5 → Nat :=
  let c0_396 : Index := 0#32
  let c2 : Index := 2#32
  let c72_i32_395 : BitVec 32 := 72#32
  let c0_i32_151 : BitVec 32 := 0#32
  let c1_i32_153 : BitVec 32 := 1#32
  let arg18 : BitVec 32 := Scf.iv c0_i32_151 c1_i32_153 k0_t22
  let v251 : BitVec 32 := Scalar.addi c72_i32_395 arg18
  let v252 : Index := Scalar.indexCast v251
  let c0_397 : Index := 0#32
  let c0_398 : Index := 0#32
  ![0, 2, v252.toNat, 0, 0]
def k0_off162 (k0_t22 : Fin k0_t22_loop.trips) : Fin 4 → Nat :=
  let c0_399 : Index := 0#32
  let c0_i32_151 : BitVec 32 := 0#32
  let c1_i32_153 : BitVec 32 := 1#32
  let arg18 : BitVec 32 := Scf.iv c0_i32_151 c1_i32_153 k0_t22
  let v256 : Index := Scalar.indexCast arg18
  let c0_400 : Index := 0#32
  let c384 : Index := 384#32
  ![0, v256.toNat, 0, 384]
def k0_off163 (k0_t22 : Fin k0_t22_loop.trips) : Fin 5 → Nat :=
  let c0_402 : Index := 0#32
  let c3 : Index := 3#32
  let c72_i32_401 : BitVec 32 := 72#32
  let c0_i32_151 : BitVec 32 := 0#32
  let c1_i32_153 : BitVec 32 := 1#32
  let arg18 : BitVec 32 := Scf.iv c0_i32_151 c1_i32_153 k0_t22
  let v261 : BitVec 32 := Scalar.addi c72_i32_401 arg18
  let v262 : Index := Scalar.indexCast v261
  let c0_403 : Index := 0#32
  let c0_404 : Index := 0#32
  ![0, 3, v262.toNat, 0, 0]
def k0_off164 (k0_t22 : Fin k0_t22_loop.trips) : Fin 4 → Nat :=
  let c0_405 : Index := 0#32
  let c0_i32_151 : BitVec 32 := 0#32
  let c1_i32_153 : BitVec 32 := 1#32
  let arg18 : BitVec 32 := Scf.iv c0_i32_151 c1_i32_153 k0_t22
  let v266 : Index := Scalar.indexCast arg18
  let c0_406 : Index := 0#32
  let c512 : Index := 512#32
  ![0, v266.toNat, 0, 512]
def k0_off165 (k0_t22 : Fin k0_t22_loop.trips) : Fin 5 → Nat :=
  let c0_408 : Index := 0#32
  let c4 : Index := 4#32
  let c72_i32_407 : BitVec 32 := 72#32
  let c0_i32_151 : BitVec 32 := 0#32
  let c1_i32_153 : BitVec 32 := 1#32
  let arg18 : BitVec 32 := Scf.iv c0_i32_151 c1_i32_153 k0_t22
  let v271 : BitVec 32 := Scalar.addi c72_i32_407 arg18
  let v272 : Index := Scalar.indexCast v271
  let c0_409 : Index := 0#32
  let c0_410 : Index := 0#32
  ![0, 4, v272.toNat, 0, 0]
def k0_off166 (k0_t22 : Fin k0_t22_loop.trips) : Fin 4 → Nat :=
  let c0_411 : Index := 0#32
  let c0_i32_151 : BitVec 32 := 0#32
  let c1_i32_153 : BitVec 32 := 1#32
  let arg18 : BitVec 32 := Scf.iv c0_i32_151 c1_i32_153 k0_t22
  let v276 : Index := Scalar.indexCast arg18
  let c0_412 : Index := 0#32
  let c640 : Index := 640#32
  ![0, v276.toNat, 0, 640]
def k0_off167 (k0_t22 : Fin k0_t22_loop.trips) : Fin 5 → Nat :=
  let c0_414 : Index := 0#32
  let c5 : Index := 5#32
  let c72_i32_413 : BitVec 32 := 72#32
  let c0_i32_151 : BitVec 32 := 0#32
  let c1_i32_153 : BitVec 32 := 1#32
  let arg18 : BitVec 32 := Scf.iv c0_i32_151 c1_i32_153 k0_t22
  let v281 : BitVec 32 := Scalar.addi c72_i32_413 arg18
  let v282 : Index := Scalar.indexCast v281
  let c0_415 : Index := 0#32
  let c0_416 : Index := 0#32
  ![0, 5, v282.toNat, 0, 0]
def k0_off168 (k0_t22 : Fin k0_t22_loop.trips) : Fin 4 → Nat :=
  let c0_417 : Index := 0#32
  let c0_i32_151 : BitVec 32 := 0#32
  let c1_i32_153 : BitVec 32 := 1#32
  let arg18 : BitVec 32 := Scf.iv c0_i32_151 c1_i32_153 k0_t22
  let v286 : Index := Scalar.indexCast arg18
  let c0_418 : Index := 0#32
  let c768 : Index := 768#32
  ![0, v286.toNat, 0, 768]
def k0_off169 (k0_t22 : Fin k0_t22_loop.trips) : Fin 5 → Nat :=
  let c0_420 : Index := 0#32
  let c6 : Index := 6#32
  let c72_i32_419 : BitVec 32 := 72#32
  let c0_i32_151 : BitVec 32 := 0#32
  let c1_i32_153 : BitVec 32 := 1#32
  let arg18 : BitVec 32 := Scf.iv c0_i32_151 c1_i32_153 k0_t22
  let v291 : BitVec 32 := Scalar.addi c72_i32_419 arg18
  let v292 : Index := Scalar.indexCast v291
  let c0_421 : Index := 0#32
  let c0_422 : Index := 0#32
  ![0, 6, v292.toNat, 0, 0]
def k0_off170 (k0_t22 : Fin k0_t22_loop.trips) : Fin 4 → Nat :=
  let c0_423 : Index := 0#32
  let c0_i32_151 : BitVec 32 := 0#32
  let c1_i32_153 : BitVec 32 := 1#32
  let arg18 : BitVec 32 := Scf.iv c0_i32_151 c1_i32_153 k0_t22
  let v296 : Index := Scalar.indexCast arg18
  let c0_424 : Index := 0#32
  let c896 : Index := 896#32
  ![0, v296.toNat, 0, 896]
def k0_off171 (k0_t22 : Fin k0_t22_loop.trips) : Fin 5 → Nat :=
  let c0_426 : Index := 0#32
  let c7 : Index := 7#32
  let c72_i32_425 : BitVec 32 := 72#32
  let c0_i32_151 : BitVec 32 := 0#32
  let c1_i32_153 : BitVec 32 := 1#32
  let arg18 : BitVec 32 := Scf.iv c0_i32_151 c1_i32_153 k0_t22
  let v301 : BitVec 32 := Scalar.addi c72_i32_425 arg18
  let v302 : Index := Scalar.indexCast v301
  let c0_427 : Index := 0#32
  let c0_428 : Index := 0#32
  ![0, 7, v302.toNat, 0, 0]
def k0_off172 (k0_t22 : Fin k0_t22_loop.trips) : Fin 4 → Nat :=
  let c0_429 : Index := 0#32
  let c0_i32_151 : BitVec 32 := 0#32
  let c1_i32_153 : BitVec 32 := 1#32
  let arg18 : BitVec 32 := Scf.iv c0_i32_151 c1_i32_153 k0_t22
  let v306 : Index := Scalar.indexCast arg18
  let c0_430 : Index := 0#32
  let c1024 : Index := 1024#32
  ![0, v306.toNat, 0, 1024]
def k0_off173 (k0_t22 : Fin k0_t22_loop.trips) : Fin 5 → Nat :=
  let c0_432 : Index := 0#32
  let c8 : Index := 8#32
  let c72_i32_431 : BitVec 32 := 72#32
  let c0_i32_151 : BitVec 32 := 0#32
  let c1_i32_153 : BitVec 32 := 1#32
  let arg18 : BitVec 32 := Scf.iv c0_i32_151 c1_i32_153 k0_t22
  let v311 : BitVec 32 := Scalar.addi c72_i32_431 arg18
  let v312 : Index := Scalar.indexCast v311
  let c0_433 : Index := 0#32
  let c0_434 : Index := 0#32
  ![0, 8, v312.toNat, 0, 0]
def k0_off174 (k0_t22 : Fin k0_t22_loop.trips) : Fin 4 → Nat :=
  let c0_435 : Index := 0#32
  let c0_i32_151 : BitVec 32 := 0#32
  let c1_i32_153 : BitVec 32 := 1#32
  let arg18 : BitVec 32 := Scf.iv c0_i32_151 c1_i32_153 k0_t22
  let v316 : Index := Scalar.indexCast arg18
  let c0_436 : Index := 0#32
  let c1152 : Index := 1152#32
  ![0, v316.toNat, 0, 1152]
def k0_off175 (k0_t22 : Fin k0_t22_loop.trips) : Fin 5 → Nat :=
  let c0_438 : Index := 0#32
  let c9 : Index := 9#32
  let c72_i32_437 : BitVec 32 := 72#32
  let c0_i32_151 : BitVec 32 := 0#32
  let c1_i32_153 : BitVec 32 := 1#32
  let arg18 : BitVec 32 := Scf.iv c0_i32_151 c1_i32_153 k0_t22
  let v321 : BitVec 32 := Scalar.addi c72_i32_437 arg18
  let v322 : Index := Scalar.indexCast v321
  let c0_439 : Index := 0#32
  let c0_440 : Index := 0#32
  ![0, 9, v322.toNat, 0, 0]
@[reducible] def k0_t23_loop : Scf.Loop 32 :=
  let c0_i32_170 : BitVec 32 := 0#32
  let c12_i32_171 : BitVec 32 := 12#32
  let v102 : BitVec 32 := Scalar.addi c0_i32_170 c12_i32_171
  let c1_i32_172 : BitVec 32 := 1#32
  ⟨c0_i32_170, v102, c1_i32_172⟩
def k0_off176 (k0_t23 : Fin k0_t23_loop.trips) : Fin 4 → Nat :=
  let c1 : Index := 1#32
  let c0_i32_170 : BitVec 32 := 0#32
  let c1_i32_172 : BitVec 32 := 1#32
  let arg18 : BitVec 32 := Scf.iv c0_i32_170 c1_i32_172 k0_t23
  let v226 : Index := Scalar.indexCast arg18
  let c0 : Index := 0#32
  let c0_380 : Index := 0#32
  ![1, v226.toNat, 0, 0]
def k0_off177 (k0_t23 : Fin k0_t23_loop.trips) : Fin 5 → Nat :=
  let c0_382 : Index := 0#32
  let c0_383 : Index := 0#32
  let c84_i32_381 : BitVec 32 := 84#32
  let c0_i32_170 : BitVec 32 := 0#32
  let c1_i32_172 : BitVec 32 := 1#32
  let arg18 : BitVec 32 := Scf.iv c0_i32_170 c1_i32_172 k0_t23
  let v231 : BitVec 32 := Scalar.addi c84_i32_381 arg18
  let v232 : Index := Scalar.indexCast v231
  let c0_384 : Index := 0#32
  let c0_385 : Index := 0#32
  ![0, 0, v232.toNat, 0, 0]
def k0_off178 (k0_t23 : Fin k0_t23_loop.trips) : Fin 4 → Nat :=
  let c1_386 : Index := 1#32
  let c0_i32_170 : BitVec 32 := 0#32
  let c1_i32_172 : BitVec 32 := 1#32
  let arg18 : BitVec 32 := Scf.iv c0_i32_170 c1_i32_172 k0_t23
  let v236 : Index := Scalar.indexCast arg18
  let c0_387 : Index := 0#32
  let c128 : Index := 128#32
  ![1, v236.toNat, 0, 128]
def k0_off179 (k0_t23 : Fin k0_t23_loop.trips) : Fin 5 → Nat :=
  let c0_389 : Index := 0#32
  let c1_390 : Index := 1#32
  let c84_i32_388 : BitVec 32 := 84#32
  let c0_i32_170 : BitVec 32 := 0#32
  let c1_i32_172 : BitVec 32 := 1#32
  let arg18 : BitVec 32 := Scf.iv c0_i32_170 c1_i32_172 k0_t23
  let v241 : BitVec 32 := Scalar.addi c84_i32_388 arg18
  let v242 : Index := Scalar.indexCast v241
  let c0_391 : Index := 0#32
  let c0_392 : Index := 0#32
  ![0, 1, v242.toNat, 0, 0]
def k0_off180 (k0_t23 : Fin k0_t23_loop.trips) : Fin 4 → Nat :=
  let c1_393 : Index := 1#32
  let c0_i32_170 : BitVec 32 := 0#32
  let c1_i32_172 : BitVec 32 := 1#32
  let arg18 : BitVec 32 := Scf.iv c0_i32_170 c1_i32_172 k0_t23
  let v246 : Index := Scalar.indexCast arg18
  let c0_394 : Index := 0#32
  let c256 : Index := 256#32
  ![1, v246.toNat, 0, 256]
def k0_off181 (k0_t23 : Fin k0_t23_loop.trips) : Fin 5 → Nat :=
  let c0_396 : Index := 0#32
  let c2 : Index := 2#32
  let c84_i32_395 : BitVec 32 := 84#32
  let c0_i32_170 : BitVec 32 := 0#32
  let c1_i32_172 : BitVec 32 := 1#32
  let arg18 : BitVec 32 := Scf.iv c0_i32_170 c1_i32_172 k0_t23
  let v251 : BitVec 32 := Scalar.addi c84_i32_395 arg18
  let v252 : Index := Scalar.indexCast v251
  let c0_397 : Index := 0#32
  let c0_398 : Index := 0#32
  ![0, 2, v252.toNat, 0, 0]
def k0_off182 (k0_t23 : Fin k0_t23_loop.trips) : Fin 4 → Nat :=
  let c1_399 : Index := 1#32
  let c0_i32_170 : BitVec 32 := 0#32
  let c1_i32_172 : BitVec 32 := 1#32
  let arg18 : BitVec 32 := Scf.iv c0_i32_170 c1_i32_172 k0_t23
  let v256 : Index := Scalar.indexCast arg18
  let c0_400 : Index := 0#32
  let c384 : Index := 384#32
  ![1, v256.toNat, 0, 384]
def k0_off183 (k0_t23 : Fin k0_t23_loop.trips) : Fin 5 → Nat :=
  let c0_402 : Index := 0#32
  let c3 : Index := 3#32
  let c84_i32_401 : BitVec 32 := 84#32
  let c0_i32_170 : BitVec 32 := 0#32
  let c1_i32_172 : BitVec 32 := 1#32
  let arg18 : BitVec 32 := Scf.iv c0_i32_170 c1_i32_172 k0_t23
  let v261 : BitVec 32 := Scalar.addi c84_i32_401 arg18
  let v262 : Index := Scalar.indexCast v261
  let c0_403 : Index := 0#32
  let c0_404 : Index := 0#32
  ![0, 3, v262.toNat, 0, 0]
def k0_off184 (k0_t23 : Fin k0_t23_loop.trips) : Fin 4 → Nat :=
  let c1_405 : Index := 1#32
  let c0_i32_170 : BitVec 32 := 0#32
  let c1_i32_172 : BitVec 32 := 1#32
  let arg18 : BitVec 32 := Scf.iv c0_i32_170 c1_i32_172 k0_t23
  let v266 : Index := Scalar.indexCast arg18
  let c0_406 : Index := 0#32
  let c512 : Index := 512#32
  ![1, v266.toNat, 0, 512]
def k0_off185 (k0_t23 : Fin k0_t23_loop.trips) : Fin 5 → Nat :=
  let c0_408 : Index := 0#32
  let c4 : Index := 4#32
  let c84_i32_407 : BitVec 32 := 84#32
  let c0_i32_170 : BitVec 32 := 0#32
  let c1_i32_172 : BitVec 32 := 1#32
  let arg18 : BitVec 32 := Scf.iv c0_i32_170 c1_i32_172 k0_t23
  let v271 : BitVec 32 := Scalar.addi c84_i32_407 arg18
  let v272 : Index := Scalar.indexCast v271
  let c0_409 : Index := 0#32
  let c0_410 : Index := 0#32
  ![0, 4, v272.toNat, 0, 0]
def k0_off186 (k0_t23 : Fin k0_t23_loop.trips) : Fin 4 → Nat :=
  let c1_411 : Index := 1#32
  let c0_i32_170 : BitVec 32 := 0#32
  let c1_i32_172 : BitVec 32 := 1#32
  let arg18 : BitVec 32 := Scf.iv c0_i32_170 c1_i32_172 k0_t23
  let v276 : Index := Scalar.indexCast arg18
  let c0_412 : Index := 0#32
  let c640 : Index := 640#32
  ![1, v276.toNat, 0, 640]
def k0_off187 (k0_t23 : Fin k0_t23_loop.trips) : Fin 5 → Nat :=
  let c0_414 : Index := 0#32
  let c5 : Index := 5#32
  let c84_i32_413 : BitVec 32 := 84#32
  let c0_i32_170 : BitVec 32 := 0#32
  let c1_i32_172 : BitVec 32 := 1#32
  let arg18 : BitVec 32 := Scf.iv c0_i32_170 c1_i32_172 k0_t23
  let v281 : BitVec 32 := Scalar.addi c84_i32_413 arg18
  let v282 : Index := Scalar.indexCast v281
  let c0_415 : Index := 0#32
  let c0_416 : Index := 0#32
  ![0, 5, v282.toNat, 0, 0]
def k0_off188 (k0_t23 : Fin k0_t23_loop.trips) : Fin 4 → Nat :=
  let c1_417 : Index := 1#32
  let c0_i32_170 : BitVec 32 := 0#32
  let c1_i32_172 : BitVec 32 := 1#32
  let arg18 : BitVec 32 := Scf.iv c0_i32_170 c1_i32_172 k0_t23
  let v286 : Index := Scalar.indexCast arg18
  let c0_418 : Index := 0#32
  let c768 : Index := 768#32
  ![1, v286.toNat, 0, 768]
def k0_off189 (k0_t23 : Fin k0_t23_loop.trips) : Fin 5 → Nat :=
  let c0_420 : Index := 0#32
  let c6 : Index := 6#32
  let c84_i32_419 : BitVec 32 := 84#32
  let c0_i32_170 : BitVec 32 := 0#32
  let c1_i32_172 : BitVec 32 := 1#32
  let arg18 : BitVec 32 := Scf.iv c0_i32_170 c1_i32_172 k0_t23
  let v291 : BitVec 32 := Scalar.addi c84_i32_419 arg18
  let v292 : Index := Scalar.indexCast v291
  let c0_421 : Index := 0#32
  let c0_422 : Index := 0#32
  ![0, 6, v292.toNat, 0, 0]
def k0_off190 (k0_t23 : Fin k0_t23_loop.trips) : Fin 4 → Nat :=
  let c1_423 : Index := 1#32
  let c0_i32_170 : BitVec 32 := 0#32
  let c1_i32_172 : BitVec 32 := 1#32
  let arg18 : BitVec 32 := Scf.iv c0_i32_170 c1_i32_172 k0_t23
  let v296 : Index := Scalar.indexCast arg18
  let c0_424 : Index := 0#32
  let c896 : Index := 896#32
  ![1, v296.toNat, 0, 896]
def k0_off191 (k0_t23 : Fin k0_t23_loop.trips) : Fin 5 → Nat :=
  let c0_426 : Index := 0#32
  let c7 : Index := 7#32
  let c84_i32_425 : BitVec 32 := 84#32
  let c0_i32_170 : BitVec 32 := 0#32
  let c1_i32_172 : BitVec 32 := 1#32
  let arg18 : BitVec 32 := Scf.iv c0_i32_170 c1_i32_172 k0_t23
  let v301 : BitVec 32 := Scalar.addi c84_i32_425 arg18
  let v302 : Index := Scalar.indexCast v301
  let c0_427 : Index := 0#32
  let c0_428 : Index := 0#32
  ![0, 7, v302.toNat, 0, 0]
def k0_off192 (k0_t23 : Fin k0_t23_loop.trips) : Fin 4 → Nat :=
  let c1_429 : Index := 1#32
  let c0_i32_170 : BitVec 32 := 0#32
  let c1_i32_172 : BitVec 32 := 1#32
  let arg18 : BitVec 32 := Scf.iv c0_i32_170 c1_i32_172 k0_t23
  let v306 : Index := Scalar.indexCast arg18
  let c0_430 : Index := 0#32
  let c1024 : Index := 1024#32
  ![1, v306.toNat, 0, 1024]
def k0_off193 (k0_t23 : Fin k0_t23_loop.trips) : Fin 5 → Nat :=
  let c0_432 : Index := 0#32
  let c8 : Index := 8#32
  let c84_i32_431 : BitVec 32 := 84#32
  let c0_i32_170 : BitVec 32 := 0#32
  let c1_i32_172 : BitVec 32 := 1#32
  let arg18 : BitVec 32 := Scf.iv c0_i32_170 c1_i32_172 k0_t23
  let v311 : BitVec 32 := Scalar.addi c84_i32_431 arg18
  let v312 : Index := Scalar.indexCast v311
  let c0_433 : Index := 0#32
  let c0_434 : Index := 0#32
  ![0, 8, v312.toNat, 0, 0]
def k0_off194 (k0_t23 : Fin k0_t23_loop.trips) : Fin 4 → Nat :=
  let c1_435 : Index := 1#32
  let c0_i32_170 : BitVec 32 := 0#32
  let c1_i32_172 : BitVec 32 := 1#32
  let arg18 : BitVec 32 := Scf.iv c0_i32_170 c1_i32_172 k0_t23
  let v316 : Index := Scalar.indexCast arg18
  let c0_436 : Index := 0#32
  let c1152 : Index := 1152#32
  ![1, v316.toNat, 0, 1152]
def k0_off195 (k0_t23 : Fin k0_t23_loop.trips) : Fin 5 → Nat :=
  let c0_438 : Index := 0#32
  let c9 : Index := 9#32
  let c84_i32_437 : BitVec 32 := 84#32
  let c0_i32_170 : BitVec 32 := 0#32
  let c1_i32_172 : BitVec 32 := 1#32
  let arg18 : BitVec 32 := Scf.iv c0_i32_170 c1_i32_172 k0_t23
  let v321 : BitVec 32 := Scalar.addi c84_i32_437 arg18
  let v322 : Index := Scalar.indexCast v321
  let c0_439 : Index := 0#32
  let c0_440 : Index := 0#32
  ![0, 9, v322.toNat, 0, 0]
@[reducible] def k0_t24_loop : Scf.Loop 32 :=
  let c0_i32_190 : BitVec 32 := 0#32
  let c12_i32_191 : BitVec 32 := 12#32
  let v113 : BitVec 32 := Scalar.addi c0_i32_190 c12_i32_191
  let c1_i32_192 : BitVec 32 := 1#32
  ⟨c0_i32_190, v113, c1_i32_192⟩
def k0_off196 (k0_t24 : Fin k0_t24_loop.trips) : Fin 4 → Nat :=
  let c0 : Index := 0#32
  let c0_i32_190 : BitVec 32 := 0#32
  let c1_i32_192 : BitVec 32 := 1#32
  let arg18 : BitVec 32 := Scf.iv c0_i32_190 c1_i32_192 k0_t24
  let v226 : Index := Scalar.indexCast arg18
  let c0_380 : Index := 0#32
  let c0_381 : Index := 0#32
  ![0, v226.toNat, 0, 0]
def k0_off197 (k0_t24 : Fin k0_t24_loop.trips) : Fin 5 → Nat :=
  let c0_383 : Index := 0#32
  let c0_384 : Index := 0#32
  let c96_i32_382 : BitVec 32 := 96#32
  let c0_i32_190 : BitVec 32 := 0#32
  let c1_i32_192 : BitVec 32 := 1#32
  let arg18 : BitVec 32 := Scf.iv c0_i32_190 c1_i32_192 k0_t24
  let v231 : BitVec 32 := Scalar.addi c96_i32_382 arg18
  let v232 : Index := Scalar.indexCast v231
  let c0_385 : Index := 0#32
  let c0_386 : Index := 0#32
  ![0, 0, v232.toNat, 0, 0]
def k0_off198 (k0_t24 : Fin k0_t24_loop.trips) : Fin 4 → Nat :=
  let c0_387 : Index := 0#32
  let c0_i32_190 : BitVec 32 := 0#32
  let c1_i32_192 : BitVec 32 := 1#32
  let arg18 : BitVec 32 := Scf.iv c0_i32_190 c1_i32_192 k0_t24
  let v236 : Index := Scalar.indexCast arg18
  let c0_388 : Index := 0#32
  let c128 : Index := 128#32
  ![0, v236.toNat, 0, 128]
def k0_off199 (k0_t24 : Fin k0_t24_loop.trips) : Fin 5 → Nat :=
  let c0_390 : Index := 0#32
  let c1 : Index := 1#32
  let c96_i32_389 : BitVec 32 := 96#32
  let c0_i32_190 : BitVec 32 := 0#32
  let c1_i32_192 : BitVec 32 := 1#32
  let arg18 : BitVec 32 := Scf.iv c0_i32_190 c1_i32_192 k0_t24
  let v241 : BitVec 32 := Scalar.addi c96_i32_389 arg18
  let v242 : Index := Scalar.indexCast v241
  let c0_391 : Index := 0#32
  let c0_392 : Index := 0#32
  ![0, 1, v242.toNat, 0, 0]
def k0_off200 (k0_t24 : Fin k0_t24_loop.trips) : Fin 4 → Nat :=
  let c0_393 : Index := 0#32
  let c0_i32_190 : BitVec 32 := 0#32
  let c1_i32_192 : BitVec 32 := 1#32
  let arg18 : BitVec 32 := Scf.iv c0_i32_190 c1_i32_192 k0_t24
  let v246 : Index := Scalar.indexCast arg18
  let c0_394 : Index := 0#32
  let c256 : Index := 256#32
  ![0, v246.toNat, 0, 256]
def k0_off201 (k0_t24 : Fin k0_t24_loop.trips) : Fin 5 → Nat :=
  let c0_396 : Index := 0#32
  let c2 : Index := 2#32
  let c96_i32_395 : BitVec 32 := 96#32
  let c0_i32_190 : BitVec 32 := 0#32
  let c1_i32_192 : BitVec 32 := 1#32
  let arg18 : BitVec 32 := Scf.iv c0_i32_190 c1_i32_192 k0_t24
  let v251 : BitVec 32 := Scalar.addi c96_i32_395 arg18
  let v252 : Index := Scalar.indexCast v251
  let c0_397 : Index := 0#32
  let c0_398 : Index := 0#32
  ![0, 2, v252.toNat, 0, 0]
def k0_off202 (k0_t24 : Fin k0_t24_loop.trips) : Fin 4 → Nat :=
  let c0_399 : Index := 0#32
  let c0_i32_190 : BitVec 32 := 0#32
  let c1_i32_192 : BitVec 32 := 1#32
  let arg18 : BitVec 32 := Scf.iv c0_i32_190 c1_i32_192 k0_t24
  let v256 : Index := Scalar.indexCast arg18
  let c0_400 : Index := 0#32
  let c384 : Index := 384#32
  ![0, v256.toNat, 0, 384]
def k0_off203 (k0_t24 : Fin k0_t24_loop.trips) : Fin 5 → Nat :=
  let c0_402 : Index := 0#32
  let c3 : Index := 3#32
  let c96_i32_401 : BitVec 32 := 96#32
  let c0_i32_190 : BitVec 32 := 0#32
  let c1_i32_192 : BitVec 32 := 1#32
  let arg18 : BitVec 32 := Scf.iv c0_i32_190 c1_i32_192 k0_t24
  let v261 : BitVec 32 := Scalar.addi c96_i32_401 arg18
  let v262 : Index := Scalar.indexCast v261
  let c0_403 : Index := 0#32
  let c0_404 : Index := 0#32
  ![0, 3, v262.toNat, 0, 0]
def k0_off204 (k0_t24 : Fin k0_t24_loop.trips) : Fin 4 → Nat :=
  let c0_405 : Index := 0#32
  let c0_i32_190 : BitVec 32 := 0#32
  let c1_i32_192 : BitVec 32 := 1#32
  let arg18 : BitVec 32 := Scf.iv c0_i32_190 c1_i32_192 k0_t24
  let v266 : Index := Scalar.indexCast arg18
  let c0_406 : Index := 0#32
  let c512 : Index := 512#32
  ![0, v266.toNat, 0, 512]
def k0_off205 (k0_t24 : Fin k0_t24_loop.trips) : Fin 5 → Nat :=
  let c0_408 : Index := 0#32
  let c4 : Index := 4#32
  let c96_i32_407 : BitVec 32 := 96#32
  let c0_i32_190 : BitVec 32 := 0#32
  let c1_i32_192 : BitVec 32 := 1#32
  let arg18 : BitVec 32 := Scf.iv c0_i32_190 c1_i32_192 k0_t24
  let v271 : BitVec 32 := Scalar.addi c96_i32_407 arg18
  let v272 : Index := Scalar.indexCast v271
  let c0_409 : Index := 0#32
  let c0_410 : Index := 0#32
  ![0, 4, v272.toNat, 0, 0]
def k0_off206 (k0_t24 : Fin k0_t24_loop.trips) : Fin 4 → Nat :=
  let c0_411 : Index := 0#32
  let c0_i32_190 : BitVec 32 := 0#32
  let c1_i32_192 : BitVec 32 := 1#32
  let arg18 : BitVec 32 := Scf.iv c0_i32_190 c1_i32_192 k0_t24
  let v276 : Index := Scalar.indexCast arg18
  let c0_412 : Index := 0#32
  let c640 : Index := 640#32
  ![0, v276.toNat, 0, 640]
def k0_off207 (k0_t24 : Fin k0_t24_loop.trips) : Fin 5 → Nat :=
  let c0_414 : Index := 0#32
  let c5 : Index := 5#32
  let c96_i32_413 : BitVec 32 := 96#32
  let c0_i32_190 : BitVec 32 := 0#32
  let c1_i32_192 : BitVec 32 := 1#32
  let arg18 : BitVec 32 := Scf.iv c0_i32_190 c1_i32_192 k0_t24
  let v281 : BitVec 32 := Scalar.addi c96_i32_413 arg18
  let v282 : Index := Scalar.indexCast v281
  let c0_415 : Index := 0#32
  let c0_416 : Index := 0#32
  ![0, 5, v282.toNat, 0, 0]
def k0_off208 (k0_t24 : Fin k0_t24_loop.trips) : Fin 4 → Nat :=
  let c0_417 : Index := 0#32
  let c0_i32_190 : BitVec 32 := 0#32
  let c1_i32_192 : BitVec 32 := 1#32
  let arg18 : BitVec 32 := Scf.iv c0_i32_190 c1_i32_192 k0_t24
  let v286 : Index := Scalar.indexCast arg18
  let c0_418 : Index := 0#32
  let c768 : Index := 768#32
  ![0, v286.toNat, 0, 768]
def k0_off209 (k0_t24 : Fin k0_t24_loop.trips) : Fin 5 → Nat :=
  let c0_420 : Index := 0#32
  let c6 : Index := 6#32
  let c96_i32_419 : BitVec 32 := 96#32
  let c0_i32_190 : BitVec 32 := 0#32
  let c1_i32_192 : BitVec 32 := 1#32
  let arg18 : BitVec 32 := Scf.iv c0_i32_190 c1_i32_192 k0_t24
  let v291 : BitVec 32 := Scalar.addi c96_i32_419 arg18
  let v292 : Index := Scalar.indexCast v291
  let c0_421 : Index := 0#32
  let c0_422 : Index := 0#32
  ![0, 6, v292.toNat, 0, 0]
def k0_off210 (k0_t24 : Fin k0_t24_loop.trips) : Fin 4 → Nat :=
  let c0_423 : Index := 0#32
  let c0_i32_190 : BitVec 32 := 0#32
  let c1_i32_192 : BitVec 32 := 1#32
  let arg18 : BitVec 32 := Scf.iv c0_i32_190 c1_i32_192 k0_t24
  let v296 : Index := Scalar.indexCast arg18
  let c0_424 : Index := 0#32
  let c896 : Index := 896#32
  ![0, v296.toNat, 0, 896]
def k0_off211 (k0_t24 : Fin k0_t24_loop.trips) : Fin 5 → Nat :=
  let c0_426 : Index := 0#32
  let c7 : Index := 7#32
  let c96_i32_425 : BitVec 32 := 96#32
  let c0_i32_190 : BitVec 32 := 0#32
  let c1_i32_192 : BitVec 32 := 1#32
  let arg18 : BitVec 32 := Scf.iv c0_i32_190 c1_i32_192 k0_t24
  let v301 : BitVec 32 := Scalar.addi c96_i32_425 arg18
  let v302 : Index := Scalar.indexCast v301
  let c0_427 : Index := 0#32
  let c0_428 : Index := 0#32
  ![0, 7, v302.toNat, 0, 0]
def k0_off212 (k0_t24 : Fin k0_t24_loop.trips) : Fin 4 → Nat :=
  let c0_429 : Index := 0#32
  let c0_i32_190 : BitVec 32 := 0#32
  let c1_i32_192 : BitVec 32 := 1#32
  let arg18 : BitVec 32 := Scf.iv c0_i32_190 c1_i32_192 k0_t24
  let v306 : Index := Scalar.indexCast arg18
  let c0_430 : Index := 0#32
  let c1024 : Index := 1024#32
  ![0, v306.toNat, 0, 1024]
def k0_off213 (k0_t24 : Fin k0_t24_loop.trips) : Fin 5 → Nat :=
  let c0_432 : Index := 0#32
  let c8 : Index := 8#32
  let c96_i32_431 : BitVec 32 := 96#32
  let c0_i32_190 : BitVec 32 := 0#32
  let c1_i32_192 : BitVec 32 := 1#32
  let arg18 : BitVec 32 := Scf.iv c0_i32_190 c1_i32_192 k0_t24
  let v311 : BitVec 32 := Scalar.addi c96_i32_431 arg18
  let v312 : Index := Scalar.indexCast v311
  let c0_433 : Index := 0#32
  let c0_434 : Index := 0#32
  ![0, 8, v312.toNat, 0, 0]
def k0_off214 (k0_t24 : Fin k0_t24_loop.trips) : Fin 4 → Nat :=
  let c0_435 : Index := 0#32
  let c0_i32_190 : BitVec 32 := 0#32
  let c1_i32_192 : BitVec 32 := 1#32
  let arg18 : BitVec 32 := Scf.iv c0_i32_190 c1_i32_192 k0_t24
  let v316 : Index := Scalar.indexCast arg18
  let c0_436 : Index := 0#32
  let c1152 : Index := 1152#32
  ![0, v316.toNat, 0, 1152]
def k0_off215 (k0_t24 : Fin k0_t24_loop.trips) : Fin 5 → Nat :=
  let c0_438 : Index := 0#32
  let c9 : Index := 9#32
  let c96_i32_437 : BitVec 32 := 96#32
  let c0_i32_190 : BitVec 32 := 0#32
  let c1_i32_192 : BitVec 32 := 1#32
  let arg18 : BitVec 32 := Scf.iv c0_i32_190 c1_i32_192 k0_t24
  let v321 : BitVec 32 := Scalar.addi c96_i32_437 arg18
  let v322 : Index := Scalar.indexCast v321
  let c0_439 : Index := 0#32
  let c0_440 : Index := 0#32
  ![0, 9, v322.toNat, 0, 0]
@[reducible] def k0_t25_loop : Scf.Loop 32 :=
  let c0_i32_210 : BitVec 32 := 0#32
  let c12_i32_211 : BitVec 32 := 12#32
  let v124 : BitVec 32 := Scalar.addi c0_i32_210 c12_i32_211
  let c1_i32_212 : BitVec 32 := 1#32
  ⟨c0_i32_210, v124, c1_i32_212⟩
def k0_off216 (k0_t25 : Fin k0_t25_loop.trips) : Fin 4 → Nat :=
  let c1 : Index := 1#32
  let c0_i32_210 : BitVec 32 := 0#32
  let c1_i32_212 : BitVec 32 := 1#32
  let arg18 : BitVec 32 := Scf.iv c0_i32_210 c1_i32_212 k0_t25
  let v226 : Index := Scalar.indexCast arg18
  let c0 : Index := 0#32
  let c0_380 : Index := 0#32
  ![1, v226.toNat, 0, 0]
def k0_off217 (k0_t25 : Fin k0_t25_loop.trips) : Fin 5 → Nat :=
  let c1_382 : Index := 1#32
  let c0_383 : Index := 0#32
  let c0_i32_381 : BitVec 32 := 0#32
  let c0_i32_210 : BitVec 32 := 0#32
  let c1_i32_212 : BitVec 32 := 1#32
  let arg18 : BitVec 32 := Scf.iv c0_i32_210 c1_i32_212 k0_t25
  let v231 : BitVec 32 := Scalar.addi c0_i32_381 arg18
  let v232 : Index := Scalar.indexCast v231
  let c0_384 : Index := 0#32
  let c0_385 : Index := 0#32
  ![1, 0, v232.toNat, 0, 0]
def k0_off218 (k0_t25 : Fin k0_t25_loop.trips) : Fin 4 → Nat :=
  let c1_386 : Index := 1#32
  let c0_i32_210 : BitVec 32 := 0#32
  let c1_i32_212 : BitVec 32 := 1#32
  let arg18 : BitVec 32 := Scf.iv c0_i32_210 c1_i32_212 k0_t25
  let v236 : Index := Scalar.indexCast arg18
  let c0_387 : Index := 0#32
  let c128 : Index := 128#32
  ![1, v236.toNat, 0, 128]
def k0_off219 (k0_t25 : Fin k0_t25_loop.trips) : Fin 5 → Nat :=
  let c1_389 : Index := 1#32
  let c1_390 : Index := 1#32
  let c0_i32_388 : BitVec 32 := 0#32
  let c0_i32_210 : BitVec 32 := 0#32
  let c1_i32_212 : BitVec 32 := 1#32
  let arg18 : BitVec 32 := Scf.iv c0_i32_210 c1_i32_212 k0_t25
  let v241 : BitVec 32 := Scalar.addi c0_i32_388 arg18
  let v242 : Index := Scalar.indexCast v241
  let c0_391 : Index := 0#32
  let c0_392 : Index := 0#32
  ![1, 1, v242.toNat, 0, 0]
def k0_off220 (k0_t25 : Fin k0_t25_loop.trips) : Fin 4 → Nat :=
  let c1_393 : Index := 1#32
  let c0_i32_210 : BitVec 32 := 0#32
  let c1_i32_212 : BitVec 32 := 1#32
  let arg18 : BitVec 32 := Scf.iv c0_i32_210 c1_i32_212 k0_t25
  let v246 : Index := Scalar.indexCast arg18
  let c0_394 : Index := 0#32
  let c256 : Index := 256#32
  ![1, v246.toNat, 0, 256]
def k0_off221 (k0_t25 : Fin k0_t25_loop.trips) : Fin 5 → Nat :=
  let c1_396 : Index := 1#32
  let c2 : Index := 2#32
  let c0_i32_395 : BitVec 32 := 0#32
  let c0_i32_210 : BitVec 32 := 0#32
  let c1_i32_212 : BitVec 32 := 1#32
  let arg18 : BitVec 32 := Scf.iv c0_i32_210 c1_i32_212 k0_t25
  let v251 : BitVec 32 := Scalar.addi c0_i32_395 arg18
  let v252 : Index := Scalar.indexCast v251
  let c0_397 : Index := 0#32
  let c0_398 : Index := 0#32
  ![1, 2, v252.toNat, 0, 0]
def k0_off222 (k0_t25 : Fin k0_t25_loop.trips) : Fin 4 → Nat :=
  let c1_399 : Index := 1#32
  let c0_i32_210 : BitVec 32 := 0#32
  let c1_i32_212 : BitVec 32 := 1#32
  let arg18 : BitVec 32 := Scf.iv c0_i32_210 c1_i32_212 k0_t25
  let v256 : Index := Scalar.indexCast arg18
  let c0_400 : Index := 0#32
  let c384 : Index := 384#32
  ![1, v256.toNat, 0, 384]
def k0_off223 (k0_t25 : Fin k0_t25_loop.trips) : Fin 5 → Nat :=
  let c1_402 : Index := 1#32
  let c3 : Index := 3#32
  let c0_i32_401 : BitVec 32 := 0#32
  let c0_i32_210 : BitVec 32 := 0#32
  let c1_i32_212 : BitVec 32 := 1#32
  let arg18 : BitVec 32 := Scf.iv c0_i32_210 c1_i32_212 k0_t25
  let v261 : BitVec 32 := Scalar.addi c0_i32_401 arg18
  let v262 : Index := Scalar.indexCast v261
  let c0_403 : Index := 0#32
  let c0_404 : Index := 0#32
  ![1, 3, v262.toNat, 0, 0]
def k0_off224 (k0_t25 : Fin k0_t25_loop.trips) : Fin 4 → Nat :=
  let c1_405 : Index := 1#32
  let c0_i32_210 : BitVec 32 := 0#32
  let c1_i32_212 : BitVec 32 := 1#32
  let arg18 : BitVec 32 := Scf.iv c0_i32_210 c1_i32_212 k0_t25
  let v266 : Index := Scalar.indexCast arg18
  let c0_406 : Index := 0#32
  let c512 : Index := 512#32
  ![1, v266.toNat, 0, 512]
def k0_off225 (k0_t25 : Fin k0_t25_loop.trips) : Fin 5 → Nat :=
  let c1_408 : Index := 1#32
  let c4 : Index := 4#32
  let c0_i32_407 : BitVec 32 := 0#32
  let c0_i32_210 : BitVec 32 := 0#32
  let c1_i32_212 : BitVec 32 := 1#32
  let arg18 : BitVec 32 := Scf.iv c0_i32_210 c1_i32_212 k0_t25
  let v271 : BitVec 32 := Scalar.addi c0_i32_407 arg18
  let v272 : Index := Scalar.indexCast v271
  let c0_409 : Index := 0#32
  let c0_410 : Index := 0#32
  ![1, 4, v272.toNat, 0, 0]
def k0_off226 (k0_t25 : Fin k0_t25_loop.trips) : Fin 4 → Nat :=
  let c1_411 : Index := 1#32
  let c0_i32_210 : BitVec 32 := 0#32
  let c1_i32_212 : BitVec 32 := 1#32
  let arg18 : BitVec 32 := Scf.iv c0_i32_210 c1_i32_212 k0_t25
  let v276 : Index := Scalar.indexCast arg18
  let c0_412 : Index := 0#32
  let c640 : Index := 640#32
  ![1, v276.toNat, 0, 640]
def k0_off227 (k0_t25 : Fin k0_t25_loop.trips) : Fin 5 → Nat :=
  let c1_414 : Index := 1#32
  let c5 : Index := 5#32
  let c0_i32_413 : BitVec 32 := 0#32
  let c0_i32_210 : BitVec 32 := 0#32
  let c1_i32_212 : BitVec 32 := 1#32
  let arg18 : BitVec 32 := Scf.iv c0_i32_210 c1_i32_212 k0_t25
  let v281 : BitVec 32 := Scalar.addi c0_i32_413 arg18
  let v282 : Index := Scalar.indexCast v281
  let c0_415 : Index := 0#32
  let c0_416 : Index := 0#32
  ![1, 5, v282.toNat, 0, 0]
def k0_off228 (k0_t25 : Fin k0_t25_loop.trips) : Fin 4 → Nat :=
  let c1_417 : Index := 1#32
  let c0_i32_210 : BitVec 32 := 0#32
  let c1_i32_212 : BitVec 32 := 1#32
  let arg18 : BitVec 32 := Scf.iv c0_i32_210 c1_i32_212 k0_t25
  let v286 : Index := Scalar.indexCast arg18
  let c0_418 : Index := 0#32
  let c768 : Index := 768#32
  ![1, v286.toNat, 0, 768]
def k0_off229 (k0_t25 : Fin k0_t25_loop.trips) : Fin 5 → Nat :=
  let c1_420 : Index := 1#32
  let c6 : Index := 6#32
  let c0_i32_419 : BitVec 32 := 0#32
  let c0_i32_210 : BitVec 32 := 0#32
  let c1_i32_212 : BitVec 32 := 1#32
  let arg18 : BitVec 32 := Scf.iv c0_i32_210 c1_i32_212 k0_t25
  let v291 : BitVec 32 := Scalar.addi c0_i32_419 arg18
  let v292 : Index := Scalar.indexCast v291
  let c0_421 : Index := 0#32
  let c0_422 : Index := 0#32
  ![1, 6, v292.toNat, 0, 0]
def k0_off230 (k0_t25 : Fin k0_t25_loop.trips) : Fin 4 → Nat :=
  let c1_423 : Index := 1#32
  let c0_i32_210 : BitVec 32 := 0#32
  let c1_i32_212 : BitVec 32 := 1#32
  let arg18 : BitVec 32 := Scf.iv c0_i32_210 c1_i32_212 k0_t25
  let v296 : Index := Scalar.indexCast arg18
  let c0_424 : Index := 0#32
  let c896 : Index := 896#32
  ![1, v296.toNat, 0, 896]
def k0_off231 (k0_t25 : Fin k0_t25_loop.trips) : Fin 5 → Nat :=
  let c1_426 : Index := 1#32
  let c7 : Index := 7#32
  let c0_i32_425 : BitVec 32 := 0#32
  let c0_i32_210 : BitVec 32 := 0#32
  let c1_i32_212 : BitVec 32 := 1#32
  let arg18 : BitVec 32 := Scf.iv c0_i32_210 c1_i32_212 k0_t25
  let v301 : BitVec 32 := Scalar.addi c0_i32_425 arg18
  let v302 : Index := Scalar.indexCast v301
  let c0_427 : Index := 0#32
  let c0_428 : Index := 0#32
  ![1, 7, v302.toNat, 0, 0]
def k0_off232 (k0_t25 : Fin k0_t25_loop.trips) : Fin 4 → Nat :=
  let c1_429 : Index := 1#32
  let c0_i32_210 : BitVec 32 := 0#32
  let c1_i32_212 : BitVec 32 := 1#32
  let arg18 : BitVec 32 := Scf.iv c0_i32_210 c1_i32_212 k0_t25
  let v306 : Index := Scalar.indexCast arg18
  let c0_430 : Index := 0#32
  let c1024 : Index := 1024#32
  ![1, v306.toNat, 0, 1024]
def k0_off233 (k0_t25 : Fin k0_t25_loop.trips) : Fin 5 → Nat :=
  let c1_432 : Index := 1#32
  let c8 : Index := 8#32
  let c0_i32_431 : BitVec 32 := 0#32
  let c0_i32_210 : BitVec 32 := 0#32
  let c1_i32_212 : BitVec 32 := 1#32
  let arg18 : BitVec 32 := Scf.iv c0_i32_210 c1_i32_212 k0_t25
  let v311 : BitVec 32 := Scalar.addi c0_i32_431 arg18
  let v312 : Index := Scalar.indexCast v311
  let c0_433 : Index := 0#32
  let c0_434 : Index := 0#32
  ![1, 8, v312.toNat, 0, 0]
def k0_off234 (k0_t25 : Fin k0_t25_loop.trips) : Fin 4 → Nat :=
  let c1_435 : Index := 1#32
  let c0_i32_210 : BitVec 32 := 0#32
  let c1_i32_212 : BitVec 32 := 1#32
  let arg18 : BitVec 32 := Scf.iv c0_i32_210 c1_i32_212 k0_t25
  let v316 : Index := Scalar.indexCast arg18
  let c0_436 : Index := 0#32
  let c1152 : Index := 1152#32
  ![1, v316.toNat, 0, 1152]
def k0_off235 (k0_t25 : Fin k0_t25_loop.trips) : Fin 5 → Nat :=
  let c1_438 : Index := 1#32
  let c9 : Index := 9#32
  let c0_i32_437 : BitVec 32 := 0#32
  let c0_i32_210 : BitVec 32 := 0#32
  let c1_i32_212 : BitVec 32 := 1#32
  let arg18 : BitVec 32 := Scf.iv c0_i32_210 c1_i32_212 k0_t25
  let v321 : BitVec 32 := Scalar.addi c0_i32_437 arg18
  let v322 : Index := Scalar.indexCast v321
  let c0_439 : Index := 0#32
  let c0_440 : Index := 0#32
  ![1, 9, v322.toNat, 0, 0]
@[reducible] def k0_t26_loop : Scf.Loop 32 :=
  let c0_i32_230 : BitVec 32 := 0#32
  let c12_i32_231 : BitVec 32 := 12#32
  let v135 : BitVec 32 := Scalar.addi c0_i32_230 c12_i32_231
  let c1_i32_232 : BitVec 32 := 1#32
  ⟨c0_i32_230, v135, c1_i32_232⟩
def k0_off236 (k0_t26 : Fin k0_t26_loop.trips) : Fin 4 → Nat :=
  let c0 : Index := 0#32
  let c0_i32_230 : BitVec 32 := 0#32
  let c1_i32_232 : BitVec 32 := 1#32
  let arg18 : BitVec 32 := Scf.iv c0_i32_230 c1_i32_232 k0_t26
  let v226 : Index := Scalar.indexCast arg18
  let c0_380 : Index := 0#32
  let c0_381 : Index := 0#32
  ![0, v226.toNat, 0, 0]
def k0_off237 (k0_t26 : Fin k0_t26_loop.trips) : Fin 5 → Nat :=
  let c1 : Index := 1#32
  let c0_383 : Index := 0#32
  let c12_i32_382 : BitVec 32 := 12#32
  let c0_i32_230 : BitVec 32 := 0#32
  let c1_i32_232 : BitVec 32 := 1#32
  let arg18 : BitVec 32 := Scf.iv c0_i32_230 c1_i32_232 k0_t26
  let v231 : BitVec 32 := Scalar.addi c12_i32_382 arg18
  let v232 : Index := Scalar.indexCast v231
  let c0_384 : Index := 0#32
  let c0_385 : Index := 0#32
  ![1, 0, v232.toNat, 0, 0]
def k0_off238 (k0_t26 : Fin k0_t26_loop.trips) : Fin 4 → Nat :=
  let c0_386 : Index := 0#32
  let c0_i32_230 : BitVec 32 := 0#32
  let c1_i32_232 : BitVec 32 := 1#32
  let arg18 : BitVec 32 := Scf.iv c0_i32_230 c1_i32_232 k0_t26
  let v236 : Index := Scalar.indexCast arg18
  let c0_387 : Index := 0#32
  let c128 : Index := 128#32
  ![0, v236.toNat, 0, 128]
def k0_off239 (k0_t26 : Fin k0_t26_loop.trips) : Fin 5 → Nat :=
  let c1_389 : Index := 1#32
  let c1_390 : Index := 1#32
  let c12_i32_388 : BitVec 32 := 12#32
  let c0_i32_230 : BitVec 32 := 0#32
  let c1_i32_232 : BitVec 32 := 1#32
  let arg18 : BitVec 32 := Scf.iv c0_i32_230 c1_i32_232 k0_t26
  let v241 : BitVec 32 := Scalar.addi c12_i32_388 arg18
  let v242 : Index := Scalar.indexCast v241
  let c0_391 : Index := 0#32
  let c0_392 : Index := 0#32
  ![1, 1, v242.toNat, 0, 0]
def k0_off240 (k0_t26 : Fin k0_t26_loop.trips) : Fin 4 → Nat :=
  let c0_393 : Index := 0#32
  let c0_i32_230 : BitVec 32 := 0#32
  let c1_i32_232 : BitVec 32 := 1#32
  let arg18 : BitVec 32 := Scf.iv c0_i32_230 c1_i32_232 k0_t26
  let v246 : Index := Scalar.indexCast arg18
  let c0_394 : Index := 0#32
  let c256 : Index := 256#32
  ![0, v246.toNat, 0, 256]
def k0_off241 (k0_t26 : Fin k0_t26_loop.trips) : Fin 5 → Nat :=
  let c1_396 : Index := 1#32
  let c2 : Index := 2#32
  let c12_i32_395 : BitVec 32 := 12#32
  let c0_i32_230 : BitVec 32 := 0#32
  let c1_i32_232 : BitVec 32 := 1#32
  let arg18 : BitVec 32 := Scf.iv c0_i32_230 c1_i32_232 k0_t26
  let v251 : BitVec 32 := Scalar.addi c12_i32_395 arg18
  let v252 : Index := Scalar.indexCast v251
  let c0_397 : Index := 0#32
  let c0_398 : Index := 0#32
  ![1, 2, v252.toNat, 0, 0]
def k0_off242 (k0_t26 : Fin k0_t26_loop.trips) : Fin 4 → Nat :=
  let c0_399 : Index := 0#32
  let c0_i32_230 : BitVec 32 := 0#32
  let c1_i32_232 : BitVec 32 := 1#32
  let arg18 : BitVec 32 := Scf.iv c0_i32_230 c1_i32_232 k0_t26
  let v256 : Index := Scalar.indexCast arg18
  let c0_400 : Index := 0#32
  let c384 : Index := 384#32
  ![0, v256.toNat, 0, 384]
def k0_off243 (k0_t26 : Fin k0_t26_loop.trips) : Fin 5 → Nat :=
  let c1_402 : Index := 1#32
  let c3 : Index := 3#32
  let c12_i32_401 : BitVec 32 := 12#32
  let c0_i32_230 : BitVec 32 := 0#32
  let c1_i32_232 : BitVec 32 := 1#32
  let arg18 : BitVec 32 := Scf.iv c0_i32_230 c1_i32_232 k0_t26
  let v261 : BitVec 32 := Scalar.addi c12_i32_401 arg18
  let v262 : Index := Scalar.indexCast v261
  let c0_403 : Index := 0#32
  let c0_404 : Index := 0#32
  ![1, 3, v262.toNat, 0, 0]
def k0_off244 (k0_t26 : Fin k0_t26_loop.trips) : Fin 4 → Nat :=
  let c0_405 : Index := 0#32
  let c0_i32_230 : BitVec 32 := 0#32
  let c1_i32_232 : BitVec 32 := 1#32
  let arg18 : BitVec 32 := Scf.iv c0_i32_230 c1_i32_232 k0_t26
  let v266 : Index := Scalar.indexCast arg18
  let c0_406 : Index := 0#32
  let c512 : Index := 512#32
  ![0, v266.toNat, 0, 512]
def k0_off245 (k0_t26 : Fin k0_t26_loop.trips) : Fin 5 → Nat :=
  let c1_408 : Index := 1#32
  let c4 : Index := 4#32
  let c12_i32_407 : BitVec 32 := 12#32
  let c0_i32_230 : BitVec 32 := 0#32
  let c1_i32_232 : BitVec 32 := 1#32
  let arg18 : BitVec 32 := Scf.iv c0_i32_230 c1_i32_232 k0_t26
  let v271 : BitVec 32 := Scalar.addi c12_i32_407 arg18
  let v272 : Index := Scalar.indexCast v271
  let c0_409 : Index := 0#32
  let c0_410 : Index := 0#32
  ![1, 4, v272.toNat, 0, 0]
def k0_off246 (k0_t26 : Fin k0_t26_loop.trips) : Fin 4 → Nat :=
  let c0_411 : Index := 0#32
  let c0_i32_230 : BitVec 32 := 0#32
  let c1_i32_232 : BitVec 32 := 1#32
  let arg18 : BitVec 32 := Scf.iv c0_i32_230 c1_i32_232 k0_t26
  let v276 : Index := Scalar.indexCast arg18
  let c0_412 : Index := 0#32
  let c640 : Index := 640#32
  ![0, v276.toNat, 0, 640]
def k0_off247 (k0_t26 : Fin k0_t26_loop.trips) : Fin 5 → Nat :=
  let c1_414 : Index := 1#32
  let c5 : Index := 5#32
  let c12_i32_413 : BitVec 32 := 12#32
  let c0_i32_230 : BitVec 32 := 0#32
  let c1_i32_232 : BitVec 32 := 1#32
  let arg18 : BitVec 32 := Scf.iv c0_i32_230 c1_i32_232 k0_t26
  let v281 : BitVec 32 := Scalar.addi c12_i32_413 arg18
  let v282 : Index := Scalar.indexCast v281
  let c0_415 : Index := 0#32
  let c0_416 : Index := 0#32
  ![1, 5, v282.toNat, 0, 0]
def k0_off248 (k0_t26 : Fin k0_t26_loop.trips) : Fin 4 → Nat :=
  let c0_417 : Index := 0#32
  let c0_i32_230 : BitVec 32 := 0#32
  let c1_i32_232 : BitVec 32 := 1#32
  let arg18 : BitVec 32 := Scf.iv c0_i32_230 c1_i32_232 k0_t26
  let v286 : Index := Scalar.indexCast arg18
  let c0_418 : Index := 0#32
  let c768 : Index := 768#32
  ![0, v286.toNat, 0, 768]
def k0_off249 (k0_t26 : Fin k0_t26_loop.trips) : Fin 5 → Nat :=
  let c1_420 : Index := 1#32
  let c6 : Index := 6#32
  let c12_i32_419 : BitVec 32 := 12#32
  let c0_i32_230 : BitVec 32 := 0#32
  let c1_i32_232 : BitVec 32 := 1#32
  let arg18 : BitVec 32 := Scf.iv c0_i32_230 c1_i32_232 k0_t26
  let v291 : BitVec 32 := Scalar.addi c12_i32_419 arg18
  let v292 : Index := Scalar.indexCast v291
  let c0_421 : Index := 0#32
  let c0_422 : Index := 0#32
  ![1, 6, v292.toNat, 0, 0]
def k0_off250 (k0_t26 : Fin k0_t26_loop.trips) : Fin 4 → Nat :=
  let c0_423 : Index := 0#32
  let c0_i32_230 : BitVec 32 := 0#32
  let c1_i32_232 : BitVec 32 := 1#32
  let arg18 : BitVec 32 := Scf.iv c0_i32_230 c1_i32_232 k0_t26
  let v296 : Index := Scalar.indexCast arg18
  let c0_424 : Index := 0#32
  let c896 : Index := 896#32
  ![0, v296.toNat, 0, 896]
def k0_off251 (k0_t26 : Fin k0_t26_loop.trips) : Fin 5 → Nat :=
  let c1_426 : Index := 1#32
  let c7 : Index := 7#32
  let c12_i32_425 : BitVec 32 := 12#32
  let c0_i32_230 : BitVec 32 := 0#32
  let c1_i32_232 : BitVec 32 := 1#32
  let arg18 : BitVec 32 := Scf.iv c0_i32_230 c1_i32_232 k0_t26
  let v301 : BitVec 32 := Scalar.addi c12_i32_425 arg18
  let v302 : Index := Scalar.indexCast v301
  let c0_427 : Index := 0#32
  let c0_428 : Index := 0#32
  ![1, 7, v302.toNat, 0, 0]
def k0_off252 (k0_t26 : Fin k0_t26_loop.trips) : Fin 4 → Nat :=
  let c0_429 : Index := 0#32
  let c0_i32_230 : BitVec 32 := 0#32
  let c1_i32_232 : BitVec 32 := 1#32
  let arg18 : BitVec 32 := Scf.iv c0_i32_230 c1_i32_232 k0_t26
  let v306 : Index := Scalar.indexCast arg18
  let c0_430 : Index := 0#32
  let c1024 : Index := 1024#32
  ![0, v306.toNat, 0, 1024]
def k0_off253 (k0_t26 : Fin k0_t26_loop.trips) : Fin 5 → Nat :=
  let c1_432 : Index := 1#32
  let c8 : Index := 8#32
  let c12_i32_431 : BitVec 32 := 12#32
  let c0_i32_230 : BitVec 32 := 0#32
  let c1_i32_232 : BitVec 32 := 1#32
  let arg18 : BitVec 32 := Scf.iv c0_i32_230 c1_i32_232 k0_t26
  let v311 : BitVec 32 := Scalar.addi c12_i32_431 arg18
  let v312 : Index := Scalar.indexCast v311
  let c0_433 : Index := 0#32
  let c0_434 : Index := 0#32
  ![1, 8, v312.toNat, 0, 0]
def k0_off254 (k0_t26 : Fin k0_t26_loop.trips) : Fin 4 → Nat :=
  let c0_435 : Index := 0#32
  let c0_i32_230 : BitVec 32 := 0#32
  let c1_i32_232 : BitVec 32 := 1#32
  let arg18 : BitVec 32 := Scf.iv c0_i32_230 c1_i32_232 k0_t26
  let v316 : Index := Scalar.indexCast arg18
  let c0_436 : Index := 0#32
  let c1152 : Index := 1152#32
  ![0, v316.toNat, 0, 1152]
def k0_off255 (k0_t26 : Fin k0_t26_loop.trips) : Fin 5 → Nat :=
  let c1_438 : Index := 1#32
  let c9 : Index := 9#32
  let c12_i32_437 : BitVec 32 := 12#32
  let c0_i32_230 : BitVec 32 := 0#32
  let c1_i32_232 : BitVec 32 := 1#32
  let arg18 : BitVec 32 := Scf.iv c0_i32_230 c1_i32_232 k0_t26
  let v321 : BitVec 32 := Scalar.addi c12_i32_437 arg18
  let v322 : Index := Scalar.indexCast v321
  let c0_439 : Index := 0#32
  let c0_440 : Index := 0#32
  ![1, 9, v322.toNat, 0, 0]
@[reducible] def k0_t27_loop : Scf.Loop 32 :=
  let c0_i32_250 : BitVec 32 := 0#32
  let c12_i32_251 : BitVec 32 := 12#32
  let v146 : BitVec 32 := Scalar.addi c0_i32_250 c12_i32_251
  let c1_i32_252 : BitVec 32 := 1#32
  ⟨c0_i32_250, v146, c1_i32_252⟩
def k0_off256 (k0_t27 : Fin k0_t27_loop.trips) : Fin 4 → Nat :=
  let c1 : Index := 1#32
  let c0_i32_250 : BitVec 32 := 0#32
  let c1_i32_252 : BitVec 32 := 1#32
  let arg18 : BitVec 32 := Scf.iv c0_i32_250 c1_i32_252 k0_t27
  let v226 : Index := Scalar.indexCast arg18
  let c0 : Index := 0#32
  let c0_380 : Index := 0#32
  ![1, v226.toNat, 0, 0]
def k0_off257 (k0_t27 : Fin k0_t27_loop.trips) : Fin 5 → Nat :=
  let c1_382 : Index := 1#32
  let c0_383 : Index := 0#32
  let c24_i32_381 : BitVec 32 := 24#32
  let c0_i32_250 : BitVec 32 := 0#32
  let c1_i32_252 : BitVec 32 := 1#32
  let arg18 : BitVec 32 := Scf.iv c0_i32_250 c1_i32_252 k0_t27
  let v231 : BitVec 32 := Scalar.addi c24_i32_381 arg18
  let v232 : Index := Scalar.indexCast v231
  let c0_384 : Index := 0#32
  let c0_385 : Index := 0#32
  ![1, 0, v232.toNat, 0, 0]
def k0_off258 (k0_t27 : Fin k0_t27_loop.trips) : Fin 4 → Nat :=
  let c1_386 : Index := 1#32
  let c0_i32_250 : BitVec 32 := 0#32
  let c1_i32_252 : BitVec 32 := 1#32
  let arg18 : BitVec 32 := Scf.iv c0_i32_250 c1_i32_252 k0_t27
  let v236 : Index := Scalar.indexCast arg18
  let c0_387 : Index := 0#32
  let c128 : Index := 128#32
  ![1, v236.toNat, 0, 128]
def k0_off259 (k0_t27 : Fin k0_t27_loop.trips) : Fin 5 → Nat :=
  let c1_389 : Index := 1#32
  let c1_390 : Index := 1#32
  let c24_i32_388 : BitVec 32 := 24#32
  let c0_i32_250 : BitVec 32 := 0#32
  let c1_i32_252 : BitVec 32 := 1#32
  let arg18 : BitVec 32 := Scf.iv c0_i32_250 c1_i32_252 k0_t27
  let v241 : BitVec 32 := Scalar.addi c24_i32_388 arg18
  let v242 : Index := Scalar.indexCast v241
  let c0_391 : Index := 0#32
  let c0_392 : Index := 0#32
  ![1, 1, v242.toNat, 0, 0]
def k0_off260 (k0_t27 : Fin k0_t27_loop.trips) : Fin 4 → Nat :=
  let c1_393 : Index := 1#32
  let c0_i32_250 : BitVec 32 := 0#32
  let c1_i32_252 : BitVec 32 := 1#32
  let arg18 : BitVec 32 := Scf.iv c0_i32_250 c1_i32_252 k0_t27
  let v246 : Index := Scalar.indexCast arg18
  let c0_394 : Index := 0#32
  let c256 : Index := 256#32
  ![1, v246.toNat, 0, 256]
def k0_off261 (k0_t27 : Fin k0_t27_loop.trips) : Fin 5 → Nat :=
  let c1_396 : Index := 1#32
  let c2 : Index := 2#32
  let c24_i32_395 : BitVec 32 := 24#32
  let c0_i32_250 : BitVec 32 := 0#32
  let c1_i32_252 : BitVec 32 := 1#32
  let arg18 : BitVec 32 := Scf.iv c0_i32_250 c1_i32_252 k0_t27
  let v251 : BitVec 32 := Scalar.addi c24_i32_395 arg18
  let v252 : Index := Scalar.indexCast v251
  let c0_397 : Index := 0#32
  let c0_398 : Index := 0#32
  ![1, 2, v252.toNat, 0, 0]
def k0_off262 (k0_t27 : Fin k0_t27_loop.trips) : Fin 4 → Nat :=
  let c1_399 : Index := 1#32
  let c0_i32_250 : BitVec 32 := 0#32
  let c1_i32_252 : BitVec 32 := 1#32
  let arg18 : BitVec 32 := Scf.iv c0_i32_250 c1_i32_252 k0_t27
  let v256 : Index := Scalar.indexCast arg18
  let c0_400 : Index := 0#32
  let c384 : Index := 384#32
  ![1, v256.toNat, 0, 384]
def k0_off263 (k0_t27 : Fin k0_t27_loop.trips) : Fin 5 → Nat :=
  let c1_402 : Index := 1#32
  let c3 : Index := 3#32
  let c24_i32_401 : BitVec 32 := 24#32
  let c0_i32_250 : BitVec 32 := 0#32
  let c1_i32_252 : BitVec 32 := 1#32
  let arg18 : BitVec 32 := Scf.iv c0_i32_250 c1_i32_252 k0_t27
  let v261 : BitVec 32 := Scalar.addi c24_i32_401 arg18
  let v262 : Index := Scalar.indexCast v261
  let c0_403 : Index := 0#32
  let c0_404 : Index := 0#32
  ![1, 3, v262.toNat, 0, 0]
def k0_off264 (k0_t27 : Fin k0_t27_loop.trips) : Fin 4 → Nat :=
  let c1_405 : Index := 1#32
  let c0_i32_250 : BitVec 32 := 0#32
  let c1_i32_252 : BitVec 32 := 1#32
  let arg18 : BitVec 32 := Scf.iv c0_i32_250 c1_i32_252 k0_t27
  let v266 : Index := Scalar.indexCast arg18
  let c0_406 : Index := 0#32
  let c512 : Index := 512#32
  ![1, v266.toNat, 0, 512]
def k0_off265 (k0_t27 : Fin k0_t27_loop.trips) : Fin 5 → Nat :=
  let c1_408 : Index := 1#32
  let c4 : Index := 4#32
  let c24_i32_407 : BitVec 32 := 24#32
  let c0_i32_250 : BitVec 32 := 0#32
  let c1_i32_252 : BitVec 32 := 1#32
  let arg18 : BitVec 32 := Scf.iv c0_i32_250 c1_i32_252 k0_t27
  let v271 : BitVec 32 := Scalar.addi c24_i32_407 arg18
  let v272 : Index := Scalar.indexCast v271
  let c0_409 : Index := 0#32
  let c0_410 : Index := 0#32
  ![1, 4, v272.toNat, 0, 0]
def k0_off266 (k0_t27 : Fin k0_t27_loop.trips) : Fin 4 → Nat :=
  let c1_411 : Index := 1#32
  let c0_i32_250 : BitVec 32 := 0#32
  let c1_i32_252 : BitVec 32 := 1#32
  let arg18 : BitVec 32 := Scf.iv c0_i32_250 c1_i32_252 k0_t27
  let v276 : Index := Scalar.indexCast arg18
  let c0_412 : Index := 0#32
  let c640 : Index := 640#32
  ![1, v276.toNat, 0, 640]
def k0_off267 (k0_t27 : Fin k0_t27_loop.trips) : Fin 5 → Nat :=
  let c1_414 : Index := 1#32
  let c5 : Index := 5#32
  let c24_i32_413 : BitVec 32 := 24#32
  let c0_i32_250 : BitVec 32 := 0#32
  let c1_i32_252 : BitVec 32 := 1#32
  let arg18 : BitVec 32 := Scf.iv c0_i32_250 c1_i32_252 k0_t27
  let v281 : BitVec 32 := Scalar.addi c24_i32_413 arg18
  let v282 : Index := Scalar.indexCast v281
  let c0_415 : Index := 0#32
  let c0_416 : Index := 0#32
  ![1, 5, v282.toNat, 0, 0]
def k0_off268 (k0_t27 : Fin k0_t27_loop.trips) : Fin 4 → Nat :=
  let c1_417 : Index := 1#32
  let c0_i32_250 : BitVec 32 := 0#32
  let c1_i32_252 : BitVec 32 := 1#32
  let arg18 : BitVec 32 := Scf.iv c0_i32_250 c1_i32_252 k0_t27
  let v286 : Index := Scalar.indexCast arg18
  let c0_418 : Index := 0#32
  let c768 : Index := 768#32
  ![1, v286.toNat, 0, 768]
def k0_off269 (k0_t27 : Fin k0_t27_loop.trips) : Fin 5 → Nat :=
  let c1_420 : Index := 1#32
  let c6 : Index := 6#32
  let c24_i32_419 : BitVec 32 := 24#32
  let c0_i32_250 : BitVec 32 := 0#32
  let c1_i32_252 : BitVec 32 := 1#32
  let arg18 : BitVec 32 := Scf.iv c0_i32_250 c1_i32_252 k0_t27
  let v291 : BitVec 32 := Scalar.addi c24_i32_419 arg18
  let v292 : Index := Scalar.indexCast v291
  let c0_421 : Index := 0#32
  let c0_422 : Index := 0#32
  ![1, 6, v292.toNat, 0, 0]
def k0_off270 (k0_t27 : Fin k0_t27_loop.trips) : Fin 4 → Nat :=
  let c1_423 : Index := 1#32
  let c0_i32_250 : BitVec 32 := 0#32
  let c1_i32_252 : BitVec 32 := 1#32
  let arg18 : BitVec 32 := Scf.iv c0_i32_250 c1_i32_252 k0_t27
  let v296 : Index := Scalar.indexCast arg18
  let c0_424 : Index := 0#32
  let c896 : Index := 896#32
  ![1, v296.toNat, 0, 896]
def k0_off271 (k0_t27 : Fin k0_t27_loop.trips) : Fin 5 → Nat :=
  let c1_426 : Index := 1#32
  let c7 : Index := 7#32
  let c24_i32_425 : BitVec 32 := 24#32
  let c0_i32_250 : BitVec 32 := 0#32
  let c1_i32_252 : BitVec 32 := 1#32
  let arg18 : BitVec 32 := Scf.iv c0_i32_250 c1_i32_252 k0_t27
  let v301 : BitVec 32 := Scalar.addi c24_i32_425 arg18
  let v302 : Index := Scalar.indexCast v301
  let c0_427 : Index := 0#32
  let c0_428 : Index := 0#32
  ![1, 7, v302.toNat, 0, 0]
def k0_off272 (k0_t27 : Fin k0_t27_loop.trips) : Fin 4 → Nat :=
  let c1_429 : Index := 1#32
  let c0_i32_250 : BitVec 32 := 0#32
  let c1_i32_252 : BitVec 32 := 1#32
  let arg18 : BitVec 32 := Scf.iv c0_i32_250 c1_i32_252 k0_t27
  let v306 : Index := Scalar.indexCast arg18
  let c0_430 : Index := 0#32
  let c1024 : Index := 1024#32
  ![1, v306.toNat, 0, 1024]
def k0_off273 (k0_t27 : Fin k0_t27_loop.trips) : Fin 5 → Nat :=
  let c1_432 : Index := 1#32
  let c8 : Index := 8#32
  let c24_i32_431 : BitVec 32 := 24#32
  let c0_i32_250 : BitVec 32 := 0#32
  let c1_i32_252 : BitVec 32 := 1#32
  let arg18 : BitVec 32 := Scf.iv c0_i32_250 c1_i32_252 k0_t27
  let v311 : BitVec 32 := Scalar.addi c24_i32_431 arg18
  let v312 : Index := Scalar.indexCast v311
  let c0_433 : Index := 0#32
  let c0_434 : Index := 0#32
  ![1, 8, v312.toNat, 0, 0]
def k0_off274 (k0_t27 : Fin k0_t27_loop.trips) : Fin 4 → Nat :=
  let c1_435 : Index := 1#32
  let c0_i32_250 : BitVec 32 := 0#32
  let c1_i32_252 : BitVec 32 := 1#32
  let arg18 : BitVec 32 := Scf.iv c0_i32_250 c1_i32_252 k0_t27
  let v316 : Index := Scalar.indexCast arg18
  let c0_436 : Index := 0#32
  let c1152 : Index := 1152#32
  ![1, v316.toNat, 0, 1152]
def k0_off275 (k0_t27 : Fin k0_t27_loop.trips) : Fin 5 → Nat :=
  let c1_438 : Index := 1#32
  let c9 : Index := 9#32
  let c24_i32_437 : BitVec 32 := 24#32
  let c0_i32_250 : BitVec 32 := 0#32
  let c1_i32_252 : BitVec 32 := 1#32
  let arg18 : BitVec 32 := Scf.iv c0_i32_250 c1_i32_252 k0_t27
  let v321 : BitVec 32 := Scalar.addi c24_i32_437 arg18
  let v322 : Index := Scalar.indexCast v321
  let c0_439 : Index := 0#32
  let c0_440 : Index := 0#32
  ![1, 9, v322.toNat, 0, 0]
@[reducible] def k0_t28_loop : Scf.Loop 32 :=
  let c0_i32_270 : BitVec 32 := 0#32
  let c12_i32_271 : BitVec 32 := 12#32
  let v157 : BitVec 32 := Scalar.addi c0_i32_270 c12_i32_271
  let c1_i32_272 : BitVec 32 := 1#32
  ⟨c0_i32_270, v157, c1_i32_272⟩
def k0_off276 (k0_t28 : Fin k0_t28_loop.trips) : Fin 4 → Nat :=
  let c0 : Index := 0#32
  let c0_i32_270 : BitVec 32 := 0#32
  let c1_i32_272 : BitVec 32 := 1#32
  let arg18 : BitVec 32 := Scf.iv c0_i32_270 c1_i32_272 k0_t28
  let v226 : Index := Scalar.indexCast arg18
  let c0_380 : Index := 0#32
  let c0_381 : Index := 0#32
  ![0, v226.toNat, 0, 0]
def k0_off277 (k0_t28 : Fin k0_t28_loop.trips) : Fin 5 → Nat :=
  let c1 : Index := 1#32
  let c0_383 : Index := 0#32
  let c36_i32_382 : BitVec 32 := 36#32
  let c0_i32_270 : BitVec 32 := 0#32
  let c1_i32_272 : BitVec 32 := 1#32
  let arg18 : BitVec 32 := Scf.iv c0_i32_270 c1_i32_272 k0_t28
  let v231 : BitVec 32 := Scalar.addi c36_i32_382 arg18
  let v232 : Index := Scalar.indexCast v231
  let c0_384 : Index := 0#32
  let c0_385 : Index := 0#32
  ![1, 0, v232.toNat, 0, 0]
def k0_off278 (k0_t28 : Fin k0_t28_loop.trips) : Fin 4 → Nat :=
  let c0_386 : Index := 0#32
  let c0_i32_270 : BitVec 32 := 0#32
  let c1_i32_272 : BitVec 32 := 1#32
  let arg18 : BitVec 32 := Scf.iv c0_i32_270 c1_i32_272 k0_t28
  let v236 : Index := Scalar.indexCast arg18
  let c0_387 : Index := 0#32
  let c128 : Index := 128#32
  ![0, v236.toNat, 0, 128]
def k0_off279 (k0_t28 : Fin k0_t28_loop.trips) : Fin 5 → Nat :=
  let c1_389 : Index := 1#32
  let c1_390 : Index := 1#32
  let c36_i32_388 : BitVec 32 := 36#32
  let c0_i32_270 : BitVec 32 := 0#32
  let c1_i32_272 : BitVec 32 := 1#32
  let arg18 : BitVec 32 := Scf.iv c0_i32_270 c1_i32_272 k0_t28
  let v241 : BitVec 32 := Scalar.addi c36_i32_388 arg18
  let v242 : Index := Scalar.indexCast v241
  let c0_391 : Index := 0#32
  let c0_392 : Index := 0#32
  ![1, 1, v242.toNat, 0, 0]
def k0_off280 (k0_t28 : Fin k0_t28_loop.trips) : Fin 4 → Nat :=
  let c0_393 : Index := 0#32
  let c0_i32_270 : BitVec 32 := 0#32
  let c1_i32_272 : BitVec 32 := 1#32
  let arg18 : BitVec 32 := Scf.iv c0_i32_270 c1_i32_272 k0_t28
  let v246 : Index := Scalar.indexCast arg18
  let c0_394 : Index := 0#32
  let c256 : Index := 256#32
  ![0, v246.toNat, 0, 256]
def k0_off281 (k0_t28 : Fin k0_t28_loop.trips) : Fin 5 → Nat :=
  let c1_396 : Index := 1#32
  let c2 : Index := 2#32
  let c36_i32_395 : BitVec 32 := 36#32
  let c0_i32_270 : BitVec 32 := 0#32
  let c1_i32_272 : BitVec 32 := 1#32
  let arg18 : BitVec 32 := Scf.iv c0_i32_270 c1_i32_272 k0_t28
  let v251 : BitVec 32 := Scalar.addi c36_i32_395 arg18
  let v252 : Index := Scalar.indexCast v251
  let c0_397 : Index := 0#32
  let c0_398 : Index := 0#32
  ![1, 2, v252.toNat, 0, 0]
def k0_off282 (k0_t28 : Fin k0_t28_loop.trips) : Fin 4 → Nat :=
  let c0_399 : Index := 0#32
  let c0_i32_270 : BitVec 32 := 0#32
  let c1_i32_272 : BitVec 32 := 1#32
  let arg18 : BitVec 32 := Scf.iv c0_i32_270 c1_i32_272 k0_t28
  let v256 : Index := Scalar.indexCast arg18
  let c0_400 : Index := 0#32
  let c384 : Index := 384#32
  ![0, v256.toNat, 0, 384]
def k0_off283 (k0_t28 : Fin k0_t28_loop.trips) : Fin 5 → Nat :=
  let c1_402 : Index := 1#32
  let c3 : Index := 3#32
  let c36_i32_401 : BitVec 32 := 36#32
  let c0_i32_270 : BitVec 32 := 0#32
  let c1_i32_272 : BitVec 32 := 1#32
  let arg18 : BitVec 32 := Scf.iv c0_i32_270 c1_i32_272 k0_t28
  let v261 : BitVec 32 := Scalar.addi c36_i32_401 arg18
  let v262 : Index := Scalar.indexCast v261
  let c0_403 : Index := 0#32
  let c0_404 : Index := 0#32
  ![1, 3, v262.toNat, 0, 0]
def k0_off284 (k0_t28 : Fin k0_t28_loop.trips) : Fin 4 → Nat :=
  let c0_405 : Index := 0#32
  let c0_i32_270 : BitVec 32 := 0#32
  let c1_i32_272 : BitVec 32 := 1#32
  let arg18 : BitVec 32 := Scf.iv c0_i32_270 c1_i32_272 k0_t28
  let v266 : Index := Scalar.indexCast arg18
  let c0_406 : Index := 0#32
  let c512 : Index := 512#32
  ![0, v266.toNat, 0, 512]
def k0_off285 (k0_t28 : Fin k0_t28_loop.trips) : Fin 5 → Nat :=
  let c1_408 : Index := 1#32
  let c4 : Index := 4#32
  let c36_i32_407 : BitVec 32 := 36#32
  let c0_i32_270 : BitVec 32 := 0#32
  let c1_i32_272 : BitVec 32 := 1#32
  let arg18 : BitVec 32 := Scf.iv c0_i32_270 c1_i32_272 k0_t28
  let v271 : BitVec 32 := Scalar.addi c36_i32_407 arg18
  let v272 : Index := Scalar.indexCast v271
  let c0_409 : Index := 0#32
  let c0_410 : Index := 0#32
  ![1, 4, v272.toNat, 0, 0]
def k0_off286 (k0_t28 : Fin k0_t28_loop.trips) : Fin 4 → Nat :=
  let c0_411 : Index := 0#32
  let c0_i32_270 : BitVec 32 := 0#32
  let c1_i32_272 : BitVec 32 := 1#32
  let arg18 : BitVec 32 := Scf.iv c0_i32_270 c1_i32_272 k0_t28
  let v276 : Index := Scalar.indexCast arg18
  let c0_412 : Index := 0#32
  let c640 : Index := 640#32
  ![0, v276.toNat, 0, 640]
def k0_off287 (k0_t28 : Fin k0_t28_loop.trips) : Fin 5 → Nat :=
  let c1_414 : Index := 1#32
  let c5 : Index := 5#32
  let c36_i32_413 : BitVec 32 := 36#32
  let c0_i32_270 : BitVec 32 := 0#32
  let c1_i32_272 : BitVec 32 := 1#32
  let arg18 : BitVec 32 := Scf.iv c0_i32_270 c1_i32_272 k0_t28
  let v281 : BitVec 32 := Scalar.addi c36_i32_413 arg18
  let v282 : Index := Scalar.indexCast v281
  let c0_415 : Index := 0#32
  let c0_416 : Index := 0#32
  ![1, 5, v282.toNat, 0, 0]
def k0_off288 (k0_t28 : Fin k0_t28_loop.trips) : Fin 4 → Nat :=
  let c0_417 : Index := 0#32
  let c0_i32_270 : BitVec 32 := 0#32
  let c1_i32_272 : BitVec 32 := 1#32
  let arg18 : BitVec 32 := Scf.iv c0_i32_270 c1_i32_272 k0_t28
  let v286 : Index := Scalar.indexCast arg18
  let c0_418 : Index := 0#32
  let c768 : Index := 768#32
  ![0, v286.toNat, 0, 768]
def k0_off289 (k0_t28 : Fin k0_t28_loop.trips) : Fin 5 → Nat :=
  let c1_420 : Index := 1#32
  let c6 : Index := 6#32
  let c36_i32_419 : BitVec 32 := 36#32
  let c0_i32_270 : BitVec 32 := 0#32
  let c1_i32_272 : BitVec 32 := 1#32
  let arg18 : BitVec 32 := Scf.iv c0_i32_270 c1_i32_272 k0_t28
  let v291 : BitVec 32 := Scalar.addi c36_i32_419 arg18
  let v292 : Index := Scalar.indexCast v291
  let c0_421 : Index := 0#32
  let c0_422 : Index := 0#32
  ![1, 6, v292.toNat, 0, 0]
def k0_off290 (k0_t28 : Fin k0_t28_loop.trips) : Fin 4 → Nat :=
  let c0_423 : Index := 0#32
  let c0_i32_270 : BitVec 32 := 0#32
  let c1_i32_272 : BitVec 32 := 1#32
  let arg18 : BitVec 32 := Scf.iv c0_i32_270 c1_i32_272 k0_t28
  let v296 : Index := Scalar.indexCast arg18
  let c0_424 : Index := 0#32
  let c896 : Index := 896#32
  ![0, v296.toNat, 0, 896]
def k0_off291 (k0_t28 : Fin k0_t28_loop.trips) : Fin 5 → Nat :=
  let c1_426 : Index := 1#32
  let c7 : Index := 7#32
  let c36_i32_425 : BitVec 32 := 36#32
  let c0_i32_270 : BitVec 32 := 0#32
  let c1_i32_272 : BitVec 32 := 1#32
  let arg18 : BitVec 32 := Scf.iv c0_i32_270 c1_i32_272 k0_t28
  let v301 : BitVec 32 := Scalar.addi c36_i32_425 arg18
  let v302 : Index := Scalar.indexCast v301
  let c0_427 : Index := 0#32
  let c0_428 : Index := 0#32
  ![1, 7, v302.toNat, 0, 0]
def k0_off292 (k0_t28 : Fin k0_t28_loop.trips) : Fin 4 → Nat :=
  let c0_429 : Index := 0#32
  let c0_i32_270 : BitVec 32 := 0#32
  let c1_i32_272 : BitVec 32 := 1#32
  let arg18 : BitVec 32 := Scf.iv c0_i32_270 c1_i32_272 k0_t28
  let v306 : Index := Scalar.indexCast arg18
  let c0_430 : Index := 0#32
  let c1024 : Index := 1024#32
  ![0, v306.toNat, 0, 1024]
def k0_off293 (k0_t28 : Fin k0_t28_loop.trips) : Fin 5 → Nat :=
  let c1_432 : Index := 1#32
  let c8 : Index := 8#32
  let c36_i32_431 : BitVec 32 := 36#32
  let c0_i32_270 : BitVec 32 := 0#32
  let c1_i32_272 : BitVec 32 := 1#32
  let arg18 : BitVec 32 := Scf.iv c0_i32_270 c1_i32_272 k0_t28
  let v311 : BitVec 32 := Scalar.addi c36_i32_431 arg18
  let v312 : Index := Scalar.indexCast v311
  let c0_433 : Index := 0#32
  let c0_434 : Index := 0#32
  ![1, 8, v312.toNat, 0, 0]
def k0_off294 (k0_t28 : Fin k0_t28_loop.trips) : Fin 4 → Nat :=
  let c0_435 : Index := 0#32
  let c0_i32_270 : BitVec 32 := 0#32
  let c1_i32_272 : BitVec 32 := 1#32
  let arg18 : BitVec 32 := Scf.iv c0_i32_270 c1_i32_272 k0_t28
  let v316 : Index := Scalar.indexCast arg18
  let c0_436 : Index := 0#32
  let c1152 : Index := 1152#32
  ![0, v316.toNat, 0, 1152]
def k0_off295 (k0_t28 : Fin k0_t28_loop.trips) : Fin 5 → Nat :=
  let c1_438 : Index := 1#32
  let c9 : Index := 9#32
  let c36_i32_437 : BitVec 32 := 36#32
  let c0_i32_270 : BitVec 32 := 0#32
  let c1_i32_272 : BitVec 32 := 1#32
  let arg18 : BitVec 32 := Scf.iv c0_i32_270 c1_i32_272 k0_t28
  let v321 : BitVec 32 := Scalar.addi c36_i32_437 arg18
  let v322 : Index := Scalar.indexCast v321
  let c0_439 : Index := 0#32
  let c0_440 : Index := 0#32
  ![1, 9, v322.toNat, 0, 0]
@[reducible] def k0_t29_loop : Scf.Loop 32 :=
  let c0_i32_290 : BitVec 32 := 0#32
  let c12_i32_291 : BitVec 32 := 12#32
  let v168 : BitVec 32 := Scalar.addi c0_i32_290 c12_i32_291
  let c1_i32_292 : BitVec 32 := 1#32
  ⟨c0_i32_290, v168, c1_i32_292⟩
def k0_off296 (k0_t29 : Fin k0_t29_loop.trips) : Fin 4 → Nat :=
  let c1 : Index := 1#32
  let c0_i32_290 : BitVec 32 := 0#32
  let c1_i32_292 : BitVec 32 := 1#32
  let arg18 : BitVec 32 := Scf.iv c0_i32_290 c1_i32_292 k0_t29
  let v226 : Index := Scalar.indexCast arg18
  let c0 : Index := 0#32
  let c0_380 : Index := 0#32
  ![1, v226.toNat, 0, 0]
def k0_off297 (k0_t29 : Fin k0_t29_loop.trips) : Fin 5 → Nat :=
  let c1_382 : Index := 1#32
  let c0_383 : Index := 0#32
  let c48_i32_381 : BitVec 32 := 48#32
  let c0_i32_290 : BitVec 32 := 0#32
  let c1_i32_292 : BitVec 32 := 1#32
  let arg18 : BitVec 32 := Scf.iv c0_i32_290 c1_i32_292 k0_t29
  let v231 : BitVec 32 := Scalar.addi c48_i32_381 arg18
  let v232 : Index := Scalar.indexCast v231
  let c0_384 : Index := 0#32
  let c0_385 : Index := 0#32
  ![1, 0, v232.toNat, 0, 0]
def k0_off298 (k0_t29 : Fin k0_t29_loop.trips) : Fin 4 → Nat :=
  let c1_386 : Index := 1#32
  let c0_i32_290 : BitVec 32 := 0#32
  let c1_i32_292 : BitVec 32 := 1#32
  let arg18 : BitVec 32 := Scf.iv c0_i32_290 c1_i32_292 k0_t29
  let v236 : Index := Scalar.indexCast arg18
  let c0_387 : Index := 0#32
  let c128 : Index := 128#32
  ![1, v236.toNat, 0, 128]
def k0_off299 (k0_t29 : Fin k0_t29_loop.trips) : Fin 5 → Nat :=
  let c1_389 : Index := 1#32
  let c1_390 : Index := 1#32
  let c48_i32_388 : BitVec 32 := 48#32
  let c0_i32_290 : BitVec 32 := 0#32
  let c1_i32_292 : BitVec 32 := 1#32
  let arg18 : BitVec 32 := Scf.iv c0_i32_290 c1_i32_292 k0_t29
  let v241 : BitVec 32 := Scalar.addi c48_i32_388 arg18
  let v242 : Index := Scalar.indexCast v241
  let c0_391 : Index := 0#32
  let c0_392 : Index := 0#32
  ![1, 1, v242.toNat, 0, 0]
def k0_off300 (k0_t29 : Fin k0_t29_loop.trips) : Fin 4 → Nat :=
  let c1_393 : Index := 1#32
  let c0_i32_290 : BitVec 32 := 0#32
  let c1_i32_292 : BitVec 32 := 1#32
  let arg18 : BitVec 32 := Scf.iv c0_i32_290 c1_i32_292 k0_t29
  let v246 : Index := Scalar.indexCast arg18
  let c0_394 : Index := 0#32
  let c256 : Index := 256#32
  ![1, v246.toNat, 0, 256]
def k0_off301 (k0_t29 : Fin k0_t29_loop.trips) : Fin 5 → Nat :=
  let c1_396 : Index := 1#32
  let c2 : Index := 2#32
  let c48_i32_395 : BitVec 32 := 48#32
  let c0_i32_290 : BitVec 32 := 0#32
  let c1_i32_292 : BitVec 32 := 1#32
  let arg18 : BitVec 32 := Scf.iv c0_i32_290 c1_i32_292 k0_t29
  let v251 : BitVec 32 := Scalar.addi c48_i32_395 arg18
  let v252 : Index := Scalar.indexCast v251
  let c0_397 : Index := 0#32
  let c0_398 : Index := 0#32
  ![1, 2, v252.toNat, 0, 0]
def k0_off302 (k0_t29 : Fin k0_t29_loop.trips) : Fin 4 → Nat :=
  let c1_399 : Index := 1#32
  let c0_i32_290 : BitVec 32 := 0#32
  let c1_i32_292 : BitVec 32 := 1#32
  let arg18 : BitVec 32 := Scf.iv c0_i32_290 c1_i32_292 k0_t29
  let v256 : Index := Scalar.indexCast arg18
  let c0_400 : Index := 0#32
  let c384 : Index := 384#32
  ![1, v256.toNat, 0, 384]
def k0_off303 (k0_t29 : Fin k0_t29_loop.trips) : Fin 5 → Nat :=
  let c1_402 : Index := 1#32
  let c3 : Index := 3#32
  let c48_i32_401 : BitVec 32 := 48#32
  let c0_i32_290 : BitVec 32 := 0#32
  let c1_i32_292 : BitVec 32 := 1#32
  let arg18 : BitVec 32 := Scf.iv c0_i32_290 c1_i32_292 k0_t29
  let v261 : BitVec 32 := Scalar.addi c48_i32_401 arg18
  let v262 : Index := Scalar.indexCast v261
  let c0_403 : Index := 0#32
  let c0_404 : Index := 0#32
  ![1, 3, v262.toNat, 0, 0]
def k0_off304 (k0_t29 : Fin k0_t29_loop.trips) : Fin 4 → Nat :=
  let c1_405 : Index := 1#32
  let c0_i32_290 : BitVec 32 := 0#32
  let c1_i32_292 : BitVec 32 := 1#32
  let arg18 : BitVec 32 := Scf.iv c0_i32_290 c1_i32_292 k0_t29
  let v266 : Index := Scalar.indexCast arg18
  let c0_406 : Index := 0#32
  let c512 : Index := 512#32
  ![1, v266.toNat, 0, 512]
def k0_off305 (k0_t29 : Fin k0_t29_loop.trips) : Fin 5 → Nat :=
  let c1_408 : Index := 1#32
  let c4 : Index := 4#32
  let c48_i32_407 : BitVec 32 := 48#32
  let c0_i32_290 : BitVec 32 := 0#32
  let c1_i32_292 : BitVec 32 := 1#32
  let arg18 : BitVec 32 := Scf.iv c0_i32_290 c1_i32_292 k0_t29
  let v271 : BitVec 32 := Scalar.addi c48_i32_407 arg18
  let v272 : Index := Scalar.indexCast v271
  let c0_409 : Index := 0#32
  let c0_410 : Index := 0#32
  ![1, 4, v272.toNat, 0, 0]
def k0_off306 (k0_t29 : Fin k0_t29_loop.trips) : Fin 4 → Nat :=
  let c1_411 : Index := 1#32
  let c0_i32_290 : BitVec 32 := 0#32
  let c1_i32_292 : BitVec 32 := 1#32
  let arg18 : BitVec 32 := Scf.iv c0_i32_290 c1_i32_292 k0_t29
  let v276 : Index := Scalar.indexCast arg18
  let c0_412 : Index := 0#32
  let c640 : Index := 640#32
  ![1, v276.toNat, 0, 640]
def k0_off307 (k0_t29 : Fin k0_t29_loop.trips) : Fin 5 → Nat :=
  let c1_414 : Index := 1#32
  let c5 : Index := 5#32
  let c48_i32_413 : BitVec 32 := 48#32
  let c0_i32_290 : BitVec 32 := 0#32
  let c1_i32_292 : BitVec 32 := 1#32
  let arg18 : BitVec 32 := Scf.iv c0_i32_290 c1_i32_292 k0_t29
  let v281 : BitVec 32 := Scalar.addi c48_i32_413 arg18
  let v282 : Index := Scalar.indexCast v281
  let c0_415 : Index := 0#32
  let c0_416 : Index := 0#32
  ![1, 5, v282.toNat, 0, 0]
def k0_off308 (k0_t29 : Fin k0_t29_loop.trips) : Fin 4 → Nat :=
  let c1_417 : Index := 1#32
  let c0_i32_290 : BitVec 32 := 0#32
  let c1_i32_292 : BitVec 32 := 1#32
  let arg18 : BitVec 32 := Scf.iv c0_i32_290 c1_i32_292 k0_t29
  let v286 : Index := Scalar.indexCast arg18
  let c0_418 : Index := 0#32
  let c768 : Index := 768#32
  ![1, v286.toNat, 0, 768]
def k0_off309 (k0_t29 : Fin k0_t29_loop.trips) : Fin 5 → Nat :=
  let c1_420 : Index := 1#32
  let c6 : Index := 6#32
  let c48_i32_419 : BitVec 32 := 48#32
  let c0_i32_290 : BitVec 32 := 0#32
  let c1_i32_292 : BitVec 32 := 1#32
  let arg18 : BitVec 32 := Scf.iv c0_i32_290 c1_i32_292 k0_t29
  let v291 : BitVec 32 := Scalar.addi c48_i32_419 arg18
  let v292 : Index := Scalar.indexCast v291
  let c0_421 : Index := 0#32
  let c0_422 : Index := 0#32
  ![1, 6, v292.toNat, 0, 0]
def k0_off310 (k0_t29 : Fin k0_t29_loop.trips) : Fin 4 → Nat :=
  let c1_423 : Index := 1#32
  let c0_i32_290 : BitVec 32 := 0#32
  let c1_i32_292 : BitVec 32 := 1#32
  let arg18 : BitVec 32 := Scf.iv c0_i32_290 c1_i32_292 k0_t29
  let v296 : Index := Scalar.indexCast arg18
  let c0_424 : Index := 0#32
  let c896 : Index := 896#32
  ![1, v296.toNat, 0, 896]
def k0_off311 (k0_t29 : Fin k0_t29_loop.trips) : Fin 5 → Nat :=
  let c1_426 : Index := 1#32
  let c7 : Index := 7#32
  let c48_i32_425 : BitVec 32 := 48#32
  let c0_i32_290 : BitVec 32 := 0#32
  let c1_i32_292 : BitVec 32 := 1#32
  let arg18 : BitVec 32 := Scf.iv c0_i32_290 c1_i32_292 k0_t29
  let v301 : BitVec 32 := Scalar.addi c48_i32_425 arg18
  let v302 : Index := Scalar.indexCast v301
  let c0_427 : Index := 0#32
  let c0_428 : Index := 0#32
  ![1, 7, v302.toNat, 0, 0]
def k0_off312 (k0_t29 : Fin k0_t29_loop.trips) : Fin 4 → Nat :=
  let c1_429 : Index := 1#32
  let c0_i32_290 : BitVec 32 := 0#32
  let c1_i32_292 : BitVec 32 := 1#32
  let arg18 : BitVec 32 := Scf.iv c0_i32_290 c1_i32_292 k0_t29
  let v306 : Index := Scalar.indexCast arg18
  let c0_430 : Index := 0#32
  let c1024 : Index := 1024#32
  ![1, v306.toNat, 0, 1024]
def k0_off313 (k0_t29 : Fin k0_t29_loop.trips) : Fin 5 → Nat :=
  let c1_432 : Index := 1#32
  let c8 : Index := 8#32
  let c48_i32_431 : BitVec 32 := 48#32
  let c0_i32_290 : BitVec 32 := 0#32
  let c1_i32_292 : BitVec 32 := 1#32
  let arg18 : BitVec 32 := Scf.iv c0_i32_290 c1_i32_292 k0_t29
  let v311 : BitVec 32 := Scalar.addi c48_i32_431 arg18
  let v312 : Index := Scalar.indexCast v311
  let c0_433 : Index := 0#32
  let c0_434 : Index := 0#32
  ![1, 8, v312.toNat, 0, 0]
def k0_off314 (k0_t29 : Fin k0_t29_loop.trips) : Fin 4 → Nat :=
  let c1_435 : Index := 1#32
  let c0_i32_290 : BitVec 32 := 0#32
  let c1_i32_292 : BitVec 32 := 1#32
  let arg18 : BitVec 32 := Scf.iv c0_i32_290 c1_i32_292 k0_t29
  let v316 : Index := Scalar.indexCast arg18
  let c0_436 : Index := 0#32
  let c1152 : Index := 1152#32
  ![1, v316.toNat, 0, 1152]
def k0_off315 (k0_t29 : Fin k0_t29_loop.trips) : Fin 5 → Nat :=
  let c1_438 : Index := 1#32
  let c9 : Index := 9#32
  let c48_i32_437 : BitVec 32 := 48#32
  let c0_i32_290 : BitVec 32 := 0#32
  let c1_i32_292 : BitVec 32 := 1#32
  let arg18 : BitVec 32 := Scf.iv c0_i32_290 c1_i32_292 k0_t29
  let v321 : BitVec 32 := Scalar.addi c48_i32_437 arg18
  let v322 : Index := Scalar.indexCast v321
  let c0_439 : Index := 0#32
  let c0_440 : Index := 0#32
  ![1, 9, v322.toNat, 0, 0]
@[reducible] def k0_t30_loop : Scf.Loop 32 :=
  let c0_i32_310 : BitVec 32 := 0#32
  let c12_i32_311 : BitVec 32 := 12#32
  let v179 : BitVec 32 := Scalar.addi c0_i32_310 c12_i32_311
  let c1_i32_312 : BitVec 32 := 1#32
  ⟨c0_i32_310, v179, c1_i32_312⟩
def k0_off316 (k0_t30 : Fin k0_t30_loop.trips) : Fin 4 → Nat :=
  let c0 : Index := 0#32
  let c0_i32_310 : BitVec 32 := 0#32
  let c1_i32_312 : BitVec 32 := 1#32
  let arg18 : BitVec 32 := Scf.iv c0_i32_310 c1_i32_312 k0_t30
  let v226 : Index := Scalar.indexCast arg18
  let c0_380 : Index := 0#32
  let c0_381 : Index := 0#32
  ![0, v226.toNat, 0, 0]
def k0_off317 (k0_t30 : Fin k0_t30_loop.trips) : Fin 5 → Nat :=
  let c1 : Index := 1#32
  let c0_383 : Index := 0#32
  let c60_i32_382 : BitVec 32 := 60#32
  let c0_i32_310 : BitVec 32 := 0#32
  let c1_i32_312 : BitVec 32 := 1#32
  let arg18 : BitVec 32 := Scf.iv c0_i32_310 c1_i32_312 k0_t30
  let v231 : BitVec 32 := Scalar.addi c60_i32_382 arg18
  let v232 : Index := Scalar.indexCast v231
  let c0_384 : Index := 0#32
  let c0_385 : Index := 0#32
  ![1, 0, v232.toNat, 0, 0]
def k0_off318 (k0_t30 : Fin k0_t30_loop.trips) : Fin 4 → Nat :=
  let c0_386 : Index := 0#32
  let c0_i32_310 : BitVec 32 := 0#32
  let c1_i32_312 : BitVec 32 := 1#32
  let arg18 : BitVec 32 := Scf.iv c0_i32_310 c1_i32_312 k0_t30
  let v236 : Index := Scalar.indexCast arg18
  let c0_387 : Index := 0#32
  let c128 : Index := 128#32
  ![0, v236.toNat, 0, 128]
def k0_off319 (k0_t30 : Fin k0_t30_loop.trips) : Fin 5 → Nat :=
  let c1_389 : Index := 1#32
  let c1_390 : Index := 1#32
  let c60_i32_388 : BitVec 32 := 60#32
  let c0_i32_310 : BitVec 32 := 0#32
  let c1_i32_312 : BitVec 32 := 1#32
  let arg18 : BitVec 32 := Scf.iv c0_i32_310 c1_i32_312 k0_t30
  let v241 : BitVec 32 := Scalar.addi c60_i32_388 arg18
  let v242 : Index := Scalar.indexCast v241
  let c0_391 : Index := 0#32
  let c0_392 : Index := 0#32
  ![1, 1, v242.toNat, 0, 0]
def k0_off320 (k0_t30 : Fin k0_t30_loop.trips) : Fin 4 → Nat :=
  let c0_393 : Index := 0#32
  let c0_i32_310 : BitVec 32 := 0#32
  let c1_i32_312 : BitVec 32 := 1#32
  let arg18 : BitVec 32 := Scf.iv c0_i32_310 c1_i32_312 k0_t30
  let v246 : Index := Scalar.indexCast arg18
  let c0_394 : Index := 0#32
  let c256 : Index := 256#32
  ![0, v246.toNat, 0, 256]
def k0_off321 (k0_t30 : Fin k0_t30_loop.trips) : Fin 5 → Nat :=
  let c1_396 : Index := 1#32
  let c2 : Index := 2#32
  let c60_i32_395 : BitVec 32 := 60#32
  let c0_i32_310 : BitVec 32 := 0#32
  let c1_i32_312 : BitVec 32 := 1#32
  let arg18 : BitVec 32 := Scf.iv c0_i32_310 c1_i32_312 k0_t30
  let v251 : BitVec 32 := Scalar.addi c60_i32_395 arg18
  let v252 : Index := Scalar.indexCast v251
  let c0_397 : Index := 0#32
  let c0_398 : Index := 0#32
  ![1, 2, v252.toNat, 0, 0]
def k0_off322 (k0_t30 : Fin k0_t30_loop.trips) : Fin 4 → Nat :=
  let c0_399 : Index := 0#32
  let c0_i32_310 : BitVec 32 := 0#32
  let c1_i32_312 : BitVec 32 := 1#32
  let arg18 : BitVec 32 := Scf.iv c0_i32_310 c1_i32_312 k0_t30
  let v256 : Index := Scalar.indexCast arg18
  let c0_400 : Index := 0#32
  let c384 : Index := 384#32
  ![0, v256.toNat, 0, 384]
def k0_off323 (k0_t30 : Fin k0_t30_loop.trips) : Fin 5 → Nat :=
  let c1_402 : Index := 1#32
  let c3 : Index := 3#32
  let c60_i32_401 : BitVec 32 := 60#32
  let c0_i32_310 : BitVec 32 := 0#32
  let c1_i32_312 : BitVec 32 := 1#32
  let arg18 : BitVec 32 := Scf.iv c0_i32_310 c1_i32_312 k0_t30
  let v261 : BitVec 32 := Scalar.addi c60_i32_401 arg18
  let v262 : Index := Scalar.indexCast v261
  let c0_403 : Index := 0#32
  let c0_404 : Index := 0#32
  ![1, 3, v262.toNat, 0, 0]
def k0_off324 (k0_t30 : Fin k0_t30_loop.trips) : Fin 4 → Nat :=
  let c0_405 : Index := 0#32
  let c0_i32_310 : BitVec 32 := 0#32
  let c1_i32_312 : BitVec 32 := 1#32
  let arg18 : BitVec 32 := Scf.iv c0_i32_310 c1_i32_312 k0_t30
  let v266 : Index := Scalar.indexCast arg18
  let c0_406 : Index := 0#32
  let c512 : Index := 512#32
  ![0, v266.toNat, 0, 512]
def k0_off325 (k0_t30 : Fin k0_t30_loop.trips) : Fin 5 → Nat :=
  let c1_408 : Index := 1#32
  let c4 : Index := 4#32
  let c60_i32_407 : BitVec 32 := 60#32
  let c0_i32_310 : BitVec 32 := 0#32
  let c1_i32_312 : BitVec 32 := 1#32
  let arg18 : BitVec 32 := Scf.iv c0_i32_310 c1_i32_312 k0_t30
  let v271 : BitVec 32 := Scalar.addi c60_i32_407 arg18
  let v272 : Index := Scalar.indexCast v271
  let c0_409 : Index := 0#32
  let c0_410 : Index := 0#32
  ![1, 4, v272.toNat, 0, 0]
def k0_off326 (k0_t30 : Fin k0_t30_loop.trips) : Fin 4 → Nat :=
  let c0_411 : Index := 0#32
  let c0_i32_310 : BitVec 32 := 0#32
  let c1_i32_312 : BitVec 32 := 1#32
  let arg18 : BitVec 32 := Scf.iv c0_i32_310 c1_i32_312 k0_t30
  let v276 : Index := Scalar.indexCast arg18
  let c0_412 : Index := 0#32
  let c640 : Index := 640#32
  ![0, v276.toNat, 0, 640]
def k0_off327 (k0_t30 : Fin k0_t30_loop.trips) : Fin 5 → Nat :=
  let c1_414 : Index := 1#32
  let c5 : Index := 5#32
  let c60_i32_413 : BitVec 32 := 60#32
  let c0_i32_310 : BitVec 32 := 0#32
  let c1_i32_312 : BitVec 32 := 1#32
  let arg18 : BitVec 32 := Scf.iv c0_i32_310 c1_i32_312 k0_t30
  let v281 : BitVec 32 := Scalar.addi c60_i32_413 arg18
  let v282 : Index := Scalar.indexCast v281
  let c0_415 : Index := 0#32
  let c0_416 : Index := 0#32
  ![1, 5, v282.toNat, 0, 0]
def k0_off328 (k0_t30 : Fin k0_t30_loop.trips) : Fin 4 → Nat :=
  let c0_417 : Index := 0#32
  let c0_i32_310 : BitVec 32 := 0#32
  let c1_i32_312 : BitVec 32 := 1#32
  let arg18 : BitVec 32 := Scf.iv c0_i32_310 c1_i32_312 k0_t30
  let v286 : Index := Scalar.indexCast arg18
  let c0_418 : Index := 0#32
  let c768 : Index := 768#32
  ![0, v286.toNat, 0, 768]
def k0_off329 (k0_t30 : Fin k0_t30_loop.trips) : Fin 5 → Nat :=
  let c1_420 : Index := 1#32
  let c6 : Index := 6#32
  let c60_i32_419 : BitVec 32 := 60#32
  let c0_i32_310 : BitVec 32 := 0#32
  let c1_i32_312 : BitVec 32 := 1#32
  let arg18 : BitVec 32 := Scf.iv c0_i32_310 c1_i32_312 k0_t30
  let v291 : BitVec 32 := Scalar.addi c60_i32_419 arg18
  let v292 : Index := Scalar.indexCast v291
  let c0_421 : Index := 0#32
  let c0_422 : Index := 0#32
  ![1, 6, v292.toNat, 0, 0]
def k0_off330 (k0_t30 : Fin k0_t30_loop.trips) : Fin 4 → Nat :=
  let c0_423 : Index := 0#32
  let c0_i32_310 : BitVec 32 := 0#32
  let c1_i32_312 : BitVec 32 := 1#32
  let arg18 : BitVec 32 := Scf.iv c0_i32_310 c1_i32_312 k0_t30
  let v296 : Index := Scalar.indexCast arg18
  let c0_424 : Index := 0#32
  let c896 : Index := 896#32
  ![0, v296.toNat, 0, 896]
def k0_off331 (k0_t30 : Fin k0_t30_loop.trips) : Fin 5 → Nat :=
  let c1_426 : Index := 1#32
  let c7 : Index := 7#32
  let c60_i32_425 : BitVec 32 := 60#32
  let c0_i32_310 : BitVec 32 := 0#32
  let c1_i32_312 : BitVec 32 := 1#32
  let arg18 : BitVec 32 := Scf.iv c0_i32_310 c1_i32_312 k0_t30
  let v301 : BitVec 32 := Scalar.addi c60_i32_425 arg18
  let v302 : Index := Scalar.indexCast v301
  let c0_427 : Index := 0#32
  let c0_428 : Index := 0#32
  ![1, 7, v302.toNat, 0, 0]
def k0_off332 (k0_t30 : Fin k0_t30_loop.trips) : Fin 4 → Nat :=
  let c0_429 : Index := 0#32
  let c0_i32_310 : BitVec 32 := 0#32
  let c1_i32_312 : BitVec 32 := 1#32
  let arg18 : BitVec 32 := Scf.iv c0_i32_310 c1_i32_312 k0_t30
  let v306 : Index := Scalar.indexCast arg18
  let c0_430 : Index := 0#32
  let c1024 : Index := 1024#32
  ![0, v306.toNat, 0, 1024]
def k0_off333 (k0_t30 : Fin k0_t30_loop.trips) : Fin 5 → Nat :=
  let c1_432 : Index := 1#32
  let c8 : Index := 8#32
  let c60_i32_431 : BitVec 32 := 60#32
  let c0_i32_310 : BitVec 32 := 0#32
  let c1_i32_312 : BitVec 32 := 1#32
  let arg18 : BitVec 32 := Scf.iv c0_i32_310 c1_i32_312 k0_t30
  let v311 : BitVec 32 := Scalar.addi c60_i32_431 arg18
  let v312 : Index := Scalar.indexCast v311
  let c0_433 : Index := 0#32
  let c0_434 : Index := 0#32
  ![1, 8, v312.toNat, 0, 0]
def k0_off334 (k0_t30 : Fin k0_t30_loop.trips) : Fin 4 → Nat :=
  let c0_435 : Index := 0#32
  let c0_i32_310 : BitVec 32 := 0#32
  let c1_i32_312 : BitVec 32 := 1#32
  let arg18 : BitVec 32 := Scf.iv c0_i32_310 c1_i32_312 k0_t30
  let v316 : Index := Scalar.indexCast arg18
  let c0_436 : Index := 0#32
  let c1152 : Index := 1152#32
  ![0, v316.toNat, 0, 1152]
def k0_off335 (k0_t30 : Fin k0_t30_loop.trips) : Fin 5 → Nat :=
  let c1_438 : Index := 1#32
  let c9 : Index := 9#32
  let c60_i32_437 : BitVec 32 := 60#32
  let c0_i32_310 : BitVec 32 := 0#32
  let c1_i32_312 : BitVec 32 := 1#32
  let arg18 : BitVec 32 := Scf.iv c0_i32_310 c1_i32_312 k0_t30
  let v321 : BitVec 32 := Scalar.addi c60_i32_437 arg18
  let v322 : Index := Scalar.indexCast v321
  let c0_439 : Index := 0#32
  let c0_440 : Index := 0#32
  ![1, 9, v322.toNat, 0, 0]
@[reducible] def k0_t31_loop : Scf.Loop 32 :=
  let c0_i32_330 : BitVec 32 := 0#32
  let c12_i32_331 : BitVec 32 := 12#32
  let v190 : BitVec 32 := Scalar.addi c0_i32_330 c12_i32_331
  let c1_i32_332 : BitVec 32 := 1#32
  ⟨c0_i32_330, v190, c1_i32_332⟩
def k0_off336 (k0_t31 : Fin k0_t31_loop.trips) : Fin 4 → Nat :=
  let c1 : Index := 1#32
  let c0_i32_330 : BitVec 32 := 0#32
  let c1_i32_332 : BitVec 32 := 1#32
  let arg18 : BitVec 32 := Scf.iv c0_i32_330 c1_i32_332 k0_t31
  let v226 : Index := Scalar.indexCast arg18
  let c0 : Index := 0#32
  let c0_380 : Index := 0#32
  ![1, v226.toNat, 0, 0]
def k0_off337 (k0_t31 : Fin k0_t31_loop.trips) : Fin 5 → Nat :=
  let c1_382 : Index := 1#32
  let c0_383 : Index := 0#32
  let c72_i32_381 : BitVec 32 := 72#32
  let c0_i32_330 : BitVec 32 := 0#32
  let c1_i32_332 : BitVec 32 := 1#32
  let arg18 : BitVec 32 := Scf.iv c0_i32_330 c1_i32_332 k0_t31
  let v231 : BitVec 32 := Scalar.addi c72_i32_381 arg18
  let v232 : Index := Scalar.indexCast v231
  let c0_384 : Index := 0#32
  let c0_385 : Index := 0#32
  ![1, 0, v232.toNat, 0, 0]
def k0_off338 (k0_t31 : Fin k0_t31_loop.trips) : Fin 4 → Nat :=
  let c1_386 : Index := 1#32
  let c0_i32_330 : BitVec 32 := 0#32
  let c1_i32_332 : BitVec 32 := 1#32
  let arg18 : BitVec 32 := Scf.iv c0_i32_330 c1_i32_332 k0_t31
  let v236 : Index := Scalar.indexCast arg18
  let c0_387 : Index := 0#32
  let c128 : Index := 128#32
  ![1, v236.toNat, 0, 128]
def k0_off339 (k0_t31 : Fin k0_t31_loop.trips) : Fin 5 → Nat :=
  let c1_389 : Index := 1#32
  let c1_390 : Index := 1#32
  let c72_i32_388 : BitVec 32 := 72#32
  let c0_i32_330 : BitVec 32 := 0#32
  let c1_i32_332 : BitVec 32 := 1#32
  let arg18 : BitVec 32 := Scf.iv c0_i32_330 c1_i32_332 k0_t31
  let v241 : BitVec 32 := Scalar.addi c72_i32_388 arg18
  let v242 : Index := Scalar.indexCast v241
  let c0_391 : Index := 0#32
  let c0_392 : Index := 0#32
  ![1, 1, v242.toNat, 0, 0]
def k0_off340 (k0_t31 : Fin k0_t31_loop.trips) : Fin 4 → Nat :=
  let c1_393 : Index := 1#32
  let c0_i32_330 : BitVec 32 := 0#32
  let c1_i32_332 : BitVec 32 := 1#32
  let arg18 : BitVec 32 := Scf.iv c0_i32_330 c1_i32_332 k0_t31
  let v246 : Index := Scalar.indexCast arg18
  let c0_394 : Index := 0#32
  let c256 : Index := 256#32
  ![1, v246.toNat, 0, 256]
def k0_off341 (k0_t31 : Fin k0_t31_loop.trips) : Fin 5 → Nat :=
  let c1_396 : Index := 1#32
  let c2 : Index := 2#32
  let c72_i32_395 : BitVec 32 := 72#32
  let c0_i32_330 : BitVec 32 := 0#32
  let c1_i32_332 : BitVec 32 := 1#32
  let arg18 : BitVec 32 := Scf.iv c0_i32_330 c1_i32_332 k0_t31
  let v251 : BitVec 32 := Scalar.addi c72_i32_395 arg18
  let v252 : Index := Scalar.indexCast v251
  let c0_397 : Index := 0#32
  let c0_398 : Index := 0#32
  ![1, 2, v252.toNat, 0, 0]
def k0_off342 (k0_t31 : Fin k0_t31_loop.trips) : Fin 4 → Nat :=
  let c1_399 : Index := 1#32
  let c0_i32_330 : BitVec 32 := 0#32
  let c1_i32_332 : BitVec 32 := 1#32
  let arg18 : BitVec 32 := Scf.iv c0_i32_330 c1_i32_332 k0_t31
  let v256 : Index := Scalar.indexCast arg18
  let c0_400 : Index := 0#32
  let c384 : Index := 384#32
  ![1, v256.toNat, 0, 384]
def k0_off343 (k0_t31 : Fin k0_t31_loop.trips) : Fin 5 → Nat :=
  let c1_402 : Index := 1#32
  let c3 : Index := 3#32
  let c72_i32_401 : BitVec 32 := 72#32
  let c0_i32_330 : BitVec 32 := 0#32
  let c1_i32_332 : BitVec 32 := 1#32
  let arg18 : BitVec 32 := Scf.iv c0_i32_330 c1_i32_332 k0_t31
  let v261 : BitVec 32 := Scalar.addi c72_i32_401 arg18
  let v262 : Index := Scalar.indexCast v261
  let c0_403 : Index := 0#32
  let c0_404 : Index := 0#32
  ![1, 3, v262.toNat, 0, 0]
def k0_off344 (k0_t31 : Fin k0_t31_loop.trips) : Fin 4 → Nat :=
  let c1_405 : Index := 1#32
  let c0_i32_330 : BitVec 32 := 0#32
  let c1_i32_332 : BitVec 32 := 1#32
  let arg18 : BitVec 32 := Scf.iv c0_i32_330 c1_i32_332 k0_t31
  let v266 : Index := Scalar.indexCast arg18
  let c0_406 : Index := 0#32
  let c512 : Index := 512#32
  ![1, v266.toNat, 0, 512]
def k0_off345 (k0_t31 : Fin k0_t31_loop.trips) : Fin 5 → Nat :=
  let c1_408 : Index := 1#32
  let c4 : Index := 4#32
  let c72_i32_407 : BitVec 32 := 72#32
  let c0_i32_330 : BitVec 32 := 0#32
  let c1_i32_332 : BitVec 32 := 1#32
  let arg18 : BitVec 32 := Scf.iv c0_i32_330 c1_i32_332 k0_t31
  let v271 : BitVec 32 := Scalar.addi c72_i32_407 arg18
  let v272 : Index := Scalar.indexCast v271
  let c0_409 : Index := 0#32
  let c0_410 : Index := 0#32
  ![1, 4, v272.toNat, 0, 0]
def k0_off346 (k0_t31 : Fin k0_t31_loop.trips) : Fin 4 → Nat :=
  let c1_411 : Index := 1#32
  let c0_i32_330 : BitVec 32 := 0#32
  let c1_i32_332 : BitVec 32 := 1#32
  let arg18 : BitVec 32 := Scf.iv c0_i32_330 c1_i32_332 k0_t31
  let v276 : Index := Scalar.indexCast arg18
  let c0_412 : Index := 0#32
  let c640 : Index := 640#32
  ![1, v276.toNat, 0, 640]
def k0_off347 (k0_t31 : Fin k0_t31_loop.trips) : Fin 5 → Nat :=
  let c1_414 : Index := 1#32
  let c5 : Index := 5#32
  let c72_i32_413 : BitVec 32 := 72#32
  let c0_i32_330 : BitVec 32 := 0#32
  let c1_i32_332 : BitVec 32 := 1#32
  let arg18 : BitVec 32 := Scf.iv c0_i32_330 c1_i32_332 k0_t31
  let v281 : BitVec 32 := Scalar.addi c72_i32_413 arg18
  let v282 : Index := Scalar.indexCast v281
  let c0_415 : Index := 0#32
  let c0_416 : Index := 0#32
  ![1, 5, v282.toNat, 0, 0]
def k0_off348 (k0_t31 : Fin k0_t31_loop.trips) : Fin 4 → Nat :=
  let c1_417 : Index := 1#32
  let c0_i32_330 : BitVec 32 := 0#32
  let c1_i32_332 : BitVec 32 := 1#32
  let arg18 : BitVec 32 := Scf.iv c0_i32_330 c1_i32_332 k0_t31
  let v286 : Index := Scalar.indexCast arg18
  let c0_418 : Index := 0#32
  let c768 : Index := 768#32
  ![1, v286.toNat, 0, 768]
def k0_off349 (k0_t31 : Fin k0_t31_loop.trips) : Fin 5 → Nat :=
  let c1_420 : Index := 1#32
  let c6 : Index := 6#32
  let c72_i32_419 : BitVec 32 := 72#32
  let c0_i32_330 : BitVec 32 := 0#32
  let c1_i32_332 : BitVec 32 := 1#32
  let arg18 : BitVec 32 := Scf.iv c0_i32_330 c1_i32_332 k0_t31
  let v291 : BitVec 32 := Scalar.addi c72_i32_419 arg18
  let v292 : Index := Scalar.indexCast v291
  let c0_421 : Index := 0#32
  let c0_422 : Index := 0#32
  ![1, 6, v292.toNat, 0, 0]
def k0_off350 (k0_t31 : Fin k0_t31_loop.trips) : Fin 4 → Nat :=
  let c1_423 : Index := 1#32
  let c0_i32_330 : BitVec 32 := 0#32
  let c1_i32_332 : BitVec 32 := 1#32
  let arg18 : BitVec 32 := Scf.iv c0_i32_330 c1_i32_332 k0_t31
  let v296 : Index := Scalar.indexCast arg18
  let c0_424 : Index := 0#32
  let c896 : Index := 896#32
  ![1, v296.toNat, 0, 896]
def k0_off351 (k0_t31 : Fin k0_t31_loop.trips) : Fin 5 → Nat :=
  let c1_426 : Index := 1#32
  let c7 : Index := 7#32
  let c72_i32_425 : BitVec 32 := 72#32
  let c0_i32_330 : BitVec 32 := 0#32
  let c1_i32_332 : BitVec 32 := 1#32
  let arg18 : BitVec 32 := Scf.iv c0_i32_330 c1_i32_332 k0_t31
  let v301 : BitVec 32 := Scalar.addi c72_i32_425 arg18
  let v302 : Index := Scalar.indexCast v301
  let c0_427 : Index := 0#32
  let c0_428 : Index := 0#32
  ![1, 7, v302.toNat, 0, 0]
def k0_off352 (k0_t31 : Fin k0_t31_loop.trips) : Fin 4 → Nat :=
  let c1_429 : Index := 1#32
  let c0_i32_330 : BitVec 32 := 0#32
  let c1_i32_332 : BitVec 32 := 1#32
  let arg18 : BitVec 32 := Scf.iv c0_i32_330 c1_i32_332 k0_t31
  let v306 : Index := Scalar.indexCast arg18
  let c0_430 : Index := 0#32
  let c1024 : Index := 1024#32
  ![1, v306.toNat, 0, 1024]
def k0_off353 (k0_t31 : Fin k0_t31_loop.trips) : Fin 5 → Nat :=
  let c1_432 : Index := 1#32
  let c8 : Index := 8#32
  let c72_i32_431 : BitVec 32 := 72#32
  let c0_i32_330 : BitVec 32 := 0#32
  let c1_i32_332 : BitVec 32 := 1#32
  let arg18 : BitVec 32 := Scf.iv c0_i32_330 c1_i32_332 k0_t31
  let v311 : BitVec 32 := Scalar.addi c72_i32_431 arg18
  let v312 : Index := Scalar.indexCast v311
  let c0_433 : Index := 0#32
  let c0_434 : Index := 0#32
  ![1, 8, v312.toNat, 0, 0]
def k0_off354 (k0_t31 : Fin k0_t31_loop.trips) : Fin 4 → Nat :=
  let c1_435 : Index := 1#32
  let c0_i32_330 : BitVec 32 := 0#32
  let c1_i32_332 : BitVec 32 := 1#32
  let arg18 : BitVec 32 := Scf.iv c0_i32_330 c1_i32_332 k0_t31
  let v316 : Index := Scalar.indexCast arg18
  let c0_436 : Index := 0#32
  let c1152 : Index := 1152#32
  ![1, v316.toNat, 0, 1152]
def k0_off355 (k0_t31 : Fin k0_t31_loop.trips) : Fin 5 → Nat :=
  let c1_438 : Index := 1#32
  let c9 : Index := 9#32
  let c72_i32_437 : BitVec 32 := 72#32
  let c0_i32_330 : BitVec 32 := 0#32
  let c1_i32_332 : BitVec 32 := 1#32
  let arg18 : BitVec 32 := Scf.iv c0_i32_330 c1_i32_332 k0_t31
  let v321 : BitVec 32 := Scalar.addi c72_i32_437 arg18
  let v322 : Index := Scalar.indexCast v321
  let c0_439 : Index := 0#32
  let c0_440 : Index := 0#32
  ![1, 9, v322.toNat, 0, 0]
@[reducible] def k0_t32_loop : Scf.Loop 32 :=
  let c0_i32_350 : BitVec 32 := 0#32
  let c12_i32_351 : BitVec 32 := 12#32
  let v201 : BitVec 32 := Scalar.addi c0_i32_350 c12_i32_351
  let c1_i32_352 : BitVec 32 := 1#32
  ⟨c0_i32_350, v201, c1_i32_352⟩
def k0_off356 (k0_t32 : Fin k0_t32_loop.trips) : Fin 4 → Nat :=
  let c0 : Index := 0#32
  let c0_i32_350 : BitVec 32 := 0#32
  let c1_i32_352 : BitVec 32 := 1#32
  let arg18 : BitVec 32 := Scf.iv c0_i32_350 c1_i32_352 k0_t32
  let v226 : Index := Scalar.indexCast arg18
  let c0_380 : Index := 0#32
  let c0_381 : Index := 0#32
  ![0, v226.toNat, 0, 0]
def k0_off357 (k0_t32 : Fin k0_t32_loop.trips) : Fin 5 → Nat :=
  let c1 : Index := 1#32
  let c0_383 : Index := 0#32
  let c84_i32_382 : BitVec 32 := 84#32
  let c0_i32_350 : BitVec 32 := 0#32
  let c1_i32_352 : BitVec 32 := 1#32
  let arg18 : BitVec 32 := Scf.iv c0_i32_350 c1_i32_352 k0_t32
  let v231 : BitVec 32 := Scalar.addi c84_i32_382 arg18
  let v232 : Index := Scalar.indexCast v231
  let c0_384 : Index := 0#32
  let c0_385 : Index := 0#32
  ![1, 0, v232.toNat, 0, 0]
def k0_off358 (k0_t32 : Fin k0_t32_loop.trips) : Fin 4 → Nat :=
  let c0_386 : Index := 0#32
  let c0_i32_350 : BitVec 32 := 0#32
  let c1_i32_352 : BitVec 32 := 1#32
  let arg18 : BitVec 32 := Scf.iv c0_i32_350 c1_i32_352 k0_t32
  let v236 : Index := Scalar.indexCast arg18
  let c0_387 : Index := 0#32
  let c128 : Index := 128#32
  ![0, v236.toNat, 0, 128]
def k0_off359 (k0_t32 : Fin k0_t32_loop.trips) : Fin 5 → Nat :=
  let c1_389 : Index := 1#32
  let c1_390 : Index := 1#32
  let c84_i32_388 : BitVec 32 := 84#32
  let c0_i32_350 : BitVec 32 := 0#32
  let c1_i32_352 : BitVec 32 := 1#32
  let arg18 : BitVec 32 := Scf.iv c0_i32_350 c1_i32_352 k0_t32
  let v241 : BitVec 32 := Scalar.addi c84_i32_388 arg18
  let v242 : Index := Scalar.indexCast v241
  let c0_391 : Index := 0#32
  let c0_392 : Index := 0#32
  ![1, 1, v242.toNat, 0, 0]
def k0_off360 (k0_t32 : Fin k0_t32_loop.trips) : Fin 4 → Nat :=
  let c0_393 : Index := 0#32
  let c0_i32_350 : BitVec 32 := 0#32
  let c1_i32_352 : BitVec 32 := 1#32
  let arg18 : BitVec 32 := Scf.iv c0_i32_350 c1_i32_352 k0_t32
  let v246 : Index := Scalar.indexCast arg18
  let c0_394 : Index := 0#32
  let c256 : Index := 256#32
  ![0, v246.toNat, 0, 256]
def k0_off361 (k0_t32 : Fin k0_t32_loop.trips) : Fin 5 → Nat :=
  let c1_396 : Index := 1#32
  let c2 : Index := 2#32
  let c84_i32_395 : BitVec 32 := 84#32
  let c0_i32_350 : BitVec 32 := 0#32
  let c1_i32_352 : BitVec 32 := 1#32
  let arg18 : BitVec 32 := Scf.iv c0_i32_350 c1_i32_352 k0_t32
  let v251 : BitVec 32 := Scalar.addi c84_i32_395 arg18
  let v252 : Index := Scalar.indexCast v251
  let c0_397 : Index := 0#32
  let c0_398 : Index := 0#32
  ![1, 2, v252.toNat, 0, 0]
def k0_off362 (k0_t32 : Fin k0_t32_loop.trips) : Fin 4 → Nat :=
  let c0_399 : Index := 0#32
  let c0_i32_350 : BitVec 32 := 0#32
  let c1_i32_352 : BitVec 32 := 1#32
  let arg18 : BitVec 32 := Scf.iv c0_i32_350 c1_i32_352 k0_t32
  let v256 : Index := Scalar.indexCast arg18
  let c0_400 : Index := 0#32
  let c384 : Index := 384#32
  ![0, v256.toNat, 0, 384]
def k0_off363 (k0_t32 : Fin k0_t32_loop.trips) : Fin 5 → Nat :=
  let c1_402 : Index := 1#32
  let c3 : Index := 3#32
  let c84_i32_401 : BitVec 32 := 84#32
  let c0_i32_350 : BitVec 32 := 0#32
  let c1_i32_352 : BitVec 32 := 1#32
  let arg18 : BitVec 32 := Scf.iv c0_i32_350 c1_i32_352 k0_t32
  let v261 : BitVec 32 := Scalar.addi c84_i32_401 arg18
  let v262 : Index := Scalar.indexCast v261
  let c0_403 : Index := 0#32
  let c0_404 : Index := 0#32
  ![1, 3, v262.toNat, 0, 0]
def k0_off364 (k0_t32 : Fin k0_t32_loop.trips) : Fin 4 → Nat :=
  let c0_405 : Index := 0#32
  let c0_i32_350 : BitVec 32 := 0#32
  let c1_i32_352 : BitVec 32 := 1#32
  let arg18 : BitVec 32 := Scf.iv c0_i32_350 c1_i32_352 k0_t32
  let v266 : Index := Scalar.indexCast arg18
  let c0_406 : Index := 0#32
  let c512 : Index := 512#32
  ![0, v266.toNat, 0, 512]
def k0_off365 (k0_t32 : Fin k0_t32_loop.trips) : Fin 5 → Nat :=
  let c1_408 : Index := 1#32
  let c4 : Index := 4#32
  let c84_i32_407 : BitVec 32 := 84#32
  let c0_i32_350 : BitVec 32 := 0#32
  let c1_i32_352 : BitVec 32 := 1#32
  let arg18 : BitVec 32 := Scf.iv c0_i32_350 c1_i32_352 k0_t32
  let v271 : BitVec 32 := Scalar.addi c84_i32_407 arg18
  let v272 : Index := Scalar.indexCast v271
  let c0_409 : Index := 0#32
  let c0_410 : Index := 0#32
  ![1, 4, v272.toNat, 0, 0]
def k0_off366 (k0_t32 : Fin k0_t32_loop.trips) : Fin 4 → Nat :=
  let c0_411 : Index := 0#32
  let c0_i32_350 : BitVec 32 := 0#32
  let c1_i32_352 : BitVec 32 := 1#32
  let arg18 : BitVec 32 := Scf.iv c0_i32_350 c1_i32_352 k0_t32
  let v276 : Index := Scalar.indexCast arg18
  let c0_412 : Index := 0#32
  let c640 : Index := 640#32
  ![0, v276.toNat, 0, 640]
def k0_off367 (k0_t32 : Fin k0_t32_loop.trips) : Fin 5 → Nat :=
  let c1_414 : Index := 1#32
  let c5 : Index := 5#32
  let c84_i32_413 : BitVec 32 := 84#32
  let c0_i32_350 : BitVec 32 := 0#32
  let c1_i32_352 : BitVec 32 := 1#32
  let arg18 : BitVec 32 := Scf.iv c0_i32_350 c1_i32_352 k0_t32
  let v281 : BitVec 32 := Scalar.addi c84_i32_413 arg18
  let v282 : Index := Scalar.indexCast v281
  let c0_415 : Index := 0#32
  let c0_416 : Index := 0#32
  ![1, 5, v282.toNat, 0, 0]
def k0_off368 (k0_t32 : Fin k0_t32_loop.trips) : Fin 4 → Nat :=
  let c0_417 : Index := 0#32
  let c0_i32_350 : BitVec 32 := 0#32
  let c1_i32_352 : BitVec 32 := 1#32
  let arg18 : BitVec 32 := Scf.iv c0_i32_350 c1_i32_352 k0_t32
  let v286 : Index := Scalar.indexCast arg18
  let c0_418 : Index := 0#32
  let c768 : Index := 768#32
  ![0, v286.toNat, 0, 768]
def k0_off369 (k0_t32 : Fin k0_t32_loop.trips) : Fin 5 → Nat :=
  let c1_420 : Index := 1#32
  let c6 : Index := 6#32
  let c84_i32_419 : BitVec 32 := 84#32
  let c0_i32_350 : BitVec 32 := 0#32
  let c1_i32_352 : BitVec 32 := 1#32
  let arg18 : BitVec 32 := Scf.iv c0_i32_350 c1_i32_352 k0_t32
  let v291 : BitVec 32 := Scalar.addi c84_i32_419 arg18
  let v292 : Index := Scalar.indexCast v291
  let c0_421 : Index := 0#32
  let c0_422 : Index := 0#32
  ![1, 6, v292.toNat, 0, 0]
def k0_off370 (k0_t32 : Fin k0_t32_loop.trips) : Fin 4 → Nat :=
  let c0_423 : Index := 0#32
  let c0_i32_350 : BitVec 32 := 0#32
  let c1_i32_352 : BitVec 32 := 1#32
  let arg18 : BitVec 32 := Scf.iv c0_i32_350 c1_i32_352 k0_t32
  let v296 : Index := Scalar.indexCast arg18
  let c0_424 : Index := 0#32
  let c896 : Index := 896#32
  ![0, v296.toNat, 0, 896]
def k0_off371 (k0_t32 : Fin k0_t32_loop.trips) : Fin 5 → Nat :=
  let c1_426 : Index := 1#32
  let c7 : Index := 7#32
  let c84_i32_425 : BitVec 32 := 84#32
  let c0_i32_350 : BitVec 32 := 0#32
  let c1_i32_352 : BitVec 32 := 1#32
  let arg18 : BitVec 32 := Scf.iv c0_i32_350 c1_i32_352 k0_t32
  let v301 : BitVec 32 := Scalar.addi c84_i32_425 arg18
  let v302 : Index := Scalar.indexCast v301
  let c0_427 : Index := 0#32
  let c0_428 : Index := 0#32
  ![1, 7, v302.toNat, 0, 0]
def k0_off372 (k0_t32 : Fin k0_t32_loop.trips) : Fin 4 → Nat :=
  let c0_429 : Index := 0#32
  let c0_i32_350 : BitVec 32 := 0#32
  let c1_i32_352 : BitVec 32 := 1#32
  let arg18 : BitVec 32 := Scf.iv c0_i32_350 c1_i32_352 k0_t32
  let v306 : Index := Scalar.indexCast arg18
  let c0_430 : Index := 0#32
  let c1024 : Index := 1024#32
  ![0, v306.toNat, 0, 1024]
def k0_off373 (k0_t32 : Fin k0_t32_loop.trips) : Fin 5 → Nat :=
  let c1_432 : Index := 1#32
  let c8 : Index := 8#32
  let c84_i32_431 : BitVec 32 := 84#32
  let c0_i32_350 : BitVec 32 := 0#32
  let c1_i32_352 : BitVec 32 := 1#32
  let arg18 : BitVec 32 := Scf.iv c0_i32_350 c1_i32_352 k0_t32
  let v311 : BitVec 32 := Scalar.addi c84_i32_431 arg18
  let v312 : Index := Scalar.indexCast v311
  let c0_433 : Index := 0#32
  let c0_434 : Index := 0#32
  ![1, 8, v312.toNat, 0, 0]
def k0_off374 (k0_t32 : Fin k0_t32_loop.trips) : Fin 4 → Nat :=
  let c0_435 : Index := 0#32
  let c0_i32_350 : BitVec 32 := 0#32
  let c1_i32_352 : BitVec 32 := 1#32
  let arg18 : BitVec 32 := Scf.iv c0_i32_350 c1_i32_352 k0_t32
  let v316 : Index := Scalar.indexCast arg18
  let c0_436 : Index := 0#32
  let c1152 : Index := 1152#32
  ![0, v316.toNat, 0, 1152]
def k0_off375 (k0_t32 : Fin k0_t32_loop.trips) : Fin 5 → Nat :=
  let c1_438 : Index := 1#32
  let c9 : Index := 9#32
  let c84_i32_437 : BitVec 32 := 84#32
  let c0_i32_350 : BitVec 32 := 0#32
  let c1_i32_352 : BitVec 32 := 1#32
  let arg18 : BitVec 32 := Scf.iv c0_i32_350 c1_i32_352 k0_t32
  let v321 : BitVec 32 := Scalar.addi c84_i32_437 arg18
  let v322 : Index := Scalar.indexCast v321
  let c0_439 : Index := 0#32
  let c0_440 : Index := 0#32
  ![1, 9, v322.toNat, 0, 0]
@[reducible] def k0_t33_loop : Scf.Loop 32 :=
  let c0_i32_362 : BitVec 32 := 0#32
  let c12_i32_363 : BitVec 32 := 12#32
  let v207 : BitVec 32 := Scalar.addi c0_i32_362 c12_i32_363
  let c1_i32_364 : BitVec 32 := 1#32
  ⟨c0_i32_362, v207, c1_i32_364⟩
def k0_off376 (k0_t33 : Fin k0_t33_loop.trips) : Fin 4 → Nat :=
  let c1 : Index := 1#32
  let c0_i32_362 : BitVec 32 := 0#32
  let c1_i32_364 : BitVec 32 := 1#32
  let arg18 : BitVec 32 := Scf.iv c0_i32_362 c1_i32_364 k0_t33
  let v226 : Index := Scalar.indexCast arg18
  let c0 : Index := 0#32
  let c0_380 : Index := 0#32
  ![1, v226.toNat, 0, 0]
def k0_off377 (k0_t33 : Fin k0_t33_loop.trips) : Fin 5 → Nat :=
  let c1_382 : Index := 1#32
  let c0_383 : Index := 0#32
  let c96_i32_381 : BitVec 32 := 96#32
  let c0_i32_362 : BitVec 32 := 0#32
  let c1_i32_364 : BitVec 32 := 1#32
  let arg18 : BitVec 32 := Scf.iv c0_i32_362 c1_i32_364 k0_t33
  let v231 : BitVec 32 := Scalar.addi c96_i32_381 arg18
  let v232 : Index := Scalar.indexCast v231
  let c0_384 : Index := 0#32
  let c0_385 : Index := 0#32
  ![1, 0, v232.toNat, 0, 0]
def k0_off378 (k0_t33 : Fin k0_t33_loop.trips) : Fin 4 → Nat :=
  let c1_386 : Index := 1#32
  let c0_i32_362 : BitVec 32 := 0#32
  let c1_i32_364 : BitVec 32 := 1#32
  let arg18 : BitVec 32 := Scf.iv c0_i32_362 c1_i32_364 k0_t33
  let v236 : Index := Scalar.indexCast arg18
  let c0_387 : Index := 0#32
  let c128 : Index := 128#32
  ![1, v236.toNat, 0, 128]
def k0_off379 (k0_t33 : Fin k0_t33_loop.trips) : Fin 5 → Nat :=
  let c1_389 : Index := 1#32
  let c1_390 : Index := 1#32
  let c96_i32_388 : BitVec 32 := 96#32
  let c0_i32_362 : BitVec 32 := 0#32
  let c1_i32_364 : BitVec 32 := 1#32
  let arg18 : BitVec 32 := Scf.iv c0_i32_362 c1_i32_364 k0_t33
  let v241 : BitVec 32 := Scalar.addi c96_i32_388 arg18
  let v242 : Index := Scalar.indexCast v241
  let c0_391 : Index := 0#32
  let c0_392 : Index := 0#32
  ![1, 1, v242.toNat, 0, 0]
def k0_off380 (k0_t33 : Fin k0_t33_loop.trips) : Fin 4 → Nat :=
  let c1_393 : Index := 1#32
  let c0_i32_362 : BitVec 32 := 0#32
  let c1_i32_364 : BitVec 32 := 1#32
  let arg18 : BitVec 32 := Scf.iv c0_i32_362 c1_i32_364 k0_t33
  let v246 : Index := Scalar.indexCast arg18
  let c0_394 : Index := 0#32
  let c256 : Index := 256#32
  ![1, v246.toNat, 0, 256]
def k0_off381 (k0_t33 : Fin k0_t33_loop.trips) : Fin 5 → Nat :=
  let c1_396 : Index := 1#32
  let c2 : Index := 2#32
  let c96_i32_395 : BitVec 32 := 96#32
  let c0_i32_362 : BitVec 32 := 0#32
  let c1_i32_364 : BitVec 32 := 1#32
  let arg18 : BitVec 32 := Scf.iv c0_i32_362 c1_i32_364 k0_t33
  let v251 : BitVec 32 := Scalar.addi c96_i32_395 arg18
  let v252 : Index := Scalar.indexCast v251
  let c0_397 : Index := 0#32
  let c0_398 : Index := 0#32
  ![1, 2, v252.toNat, 0, 0]
def k0_off382 (k0_t33 : Fin k0_t33_loop.trips) : Fin 4 → Nat :=
  let c1_399 : Index := 1#32
  let c0_i32_362 : BitVec 32 := 0#32
  let c1_i32_364 : BitVec 32 := 1#32
  let arg18 : BitVec 32 := Scf.iv c0_i32_362 c1_i32_364 k0_t33
  let v256 : Index := Scalar.indexCast arg18
  let c0_400 : Index := 0#32
  let c384 : Index := 384#32
  ![1, v256.toNat, 0, 384]
def k0_off383 (k0_t33 : Fin k0_t33_loop.trips) : Fin 5 → Nat :=
  let c1_402 : Index := 1#32
  let c3 : Index := 3#32
  let c96_i32_401 : BitVec 32 := 96#32
  let c0_i32_362 : BitVec 32 := 0#32
  let c1_i32_364 : BitVec 32 := 1#32
  let arg18 : BitVec 32 := Scf.iv c0_i32_362 c1_i32_364 k0_t33
  let v261 : BitVec 32 := Scalar.addi c96_i32_401 arg18
  let v262 : Index := Scalar.indexCast v261
  let c0_403 : Index := 0#32
  let c0_404 : Index := 0#32
  ![1, 3, v262.toNat, 0, 0]
def k0_off384 (k0_t33 : Fin k0_t33_loop.trips) : Fin 4 → Nat :=
  let c1_405 : Index := 1#32
  let c0_i32_362 : BitVec 32 := 0#32
  let c1_i32_364 : BitVec 32 := 1#32
  let arg18 : BitVec 32 := Scf.iv c0_i32_362 c1_i32_364 k0_t33
  let v266 : Index := Scalar.indexCast arg18
  let c0_406 : Index := 0#32
  let c512 : Index := 512#32
  ![1, v266.toNat, 0, 512]
def k0_off385 (k0_t33 : Fin k0_t33_loop.trips) : Fin 5 → Nat :=
  let c1_408 : Index := 1#32
  let c4 : Index := 4#32
  let c96_i32_407 : BitVec 32 := 96#32
  let c0_i32_362 : BitVec 32 := 0#32
  let c1_i32_364 : BitVec 32 := 1#32
  let arg18 : BitVec 32 := Scf.iv c0_i32_362 c1_i32_364 k0_t33
  let v271 : BitVec 32 := Scalar.addi c96_i32_407 arg18
  let v272 : Index := Scalar.indexCast v271
  let c0_409 : Index := 0#32
  let c0_410 : Index := 0#32
  ![1, 4, v272.toNat, 0, 0]
def k0_off386 (k0_t33 : Fin k0_t33_loop.trips) : Fin 4 → Nat :=
  let c1_411 : Index := 1#32
  let c0_i32_362 : BitVec 32 := 0#32
  let c1_i32_364 : BitVec 32 := 1#32
  let arg18 : BitVec 32 := Scf.iv c0_i32_362 c1_i32_364 k0_t33
  let v276 : Index := Scalar.indexCast arg18
  let c0_412 : Index := 0#32
  let c640 : Index := 640#32
  ![1, v276.toNat, 0, 640]
def k0_off387 (k0_t33 : Fin k0_t33_loop.trips) : Fin 5 → Nat :=
  let c1_414 : Index := 1#32
  let c5 : Index := 5#32
  let c96_i32_413 : BitVec 32 := 96#32
  let c0_i32_362 : BitVec 32 := 0#32
  let c1_i32_364 : BitVec 32 := 1#32
  let arg18 : BitVec 32 := Scf.iv c0_i32_362 c1_i32_364 k0_t33
  let v281 : BitVec 32 := Scalar.addi c96_i32_413 arg18
  let v282 : Index := Scalar.indexCast v281
  let c0_415 : Index := 0#32
  let c0_416 : Index := 0#32
  ![1, 5, v282.toNat, 0, 0]
def k0_off388 (k0_t33 : Fin k0_t33_loop.trips) : Fin 4 → Nat :=
  let c1_417 : Index := 1#32
  let c0_i32_362 : BitVec 32 := 0#32
  let c1_i32_364 : BitVec 32 := 1#32
  let arg18 : BitVec 32 := Scf.iv c0_i32_362 c1_i32_364 k0_t33
  let v286 : Index := Scalar.indexCast arg18
  let c0_418 : Index := 0#32
  let c768 : Index := 768#32
  ![1, v286.toNat, 0, 768]
def k0_off389 (k0_t33 : Fin k0_t33_loop.trips) : Fin 5 → Nat :=
  let c1_420 : Index := 1#32
  let c6 : Index := 6#32
  let c96_i32_419 : BitVec 32 := 96#32
  let c0_i32_362 : BitVec 32 := 0#32
  let c1_i32_364 : BitVec 32 := 1#32
  let arg18 : BitVec 32 := Scf.iv c0_i32_362 c1_i32_364 k0_t33
  let v291 : BitVec 32 := Scalar.addi c96_i32_419 arg18
  let v292 : Index := Scalar.indexCast v291
  let c0_421 : Index := 0#32
  let c0_422 : Index := 0#32
  ![1, 6, v292.toNat, 0, 0]
def k0_off390 (k0_t33 : Fin k0_t33_loop.trips) : Fin 4 → Nat :=
  let c1_423 : Index := 1#32
  let c0_i32_362 : BitVec 32 := 0#32
  let c1_i32_364 : BitVec 32 := 1#32
  let arg18 : BitVec 32 := Scf.iv c0_i32_362 c1_i32_364 k0_t33
  let v296 : Index := Scalar.indexCast arg18
  let c0_424 : Index := 0#32
  let c896 : Index := 896#32
  ![1, v296.toNat, 0, 896]
def k0_off391 (k0_t33 : Fin k0_t33_loop.trips) : Fin 5 → Nat :=
  let c1_426 : Index := 1#32
  let c7 : Index := 7#32
  let c96_i32_425 : BitVec 32 := 96#32
  let c0_i32_362 : BitVec 32 := 0#32
  let c1_i32_364 : BitVec 32 := 1#32
  let arg18 : BitVec 32 := Scf.iv c0_i32_362 c1_i32_364 k0_t33
  let v301 : BitVec 32 := Scalar.addi c96_i32_425 arg18
  let v302 : Index := Scalar.indexCast v301
  let c0_427 : Index := 0#32
  let c0_428 : Index := 0#32
  ![1, 7, v302.toNat, 0, 0]
def k0_off392 (k0_t33 : Fin k0_t33_loop.trips) : Fin 4 → Nat :=
  let c1_429 : Index := 1#32
  let c0_i32_362 : BitVec 32 := 0#32
  let c1_i32_364 : BitVec 32 := 1#32
  let arg18 : BitVec 32 := Scf.iv c0_i32_362 c1_i32_364 k0_t33
  let v306 : Index := Scalar.indexCast arg18
  let c0_430 : Index := 0#32
  let c1024 : Index := 1024#32
  ![1, v306.toNat, 0, 1024]
def k0_off393 (k0_t33 : Fin k0_t33_loop.trips) : Fin 5 → Nat :=
  let c1_432 : Index := 1#32
  let c8 : Index := 8#32
  let c96_i32_431 : BitVec 32 := 96#32
  let c0_i32_362 : BitVec 32 := 0#32
  let c1_i32_364 : BitVec 32 := 1#32
  let arg18 : BitVec 32 := Scf.iv c0_i32_362 c1_i32_364 k0_t33
  let v311 : BitVec 32 := Scalar.addi c96_i32_431 arg18
  let v312 : Index := Scalar.indexCast v311
  let c0_433 : Index := 0#32
  let c0_434 : Index := 0#32
  ![1, 8, v312.toNat, 0, 0]
def k0_off394 (k0_t33 : Fin k0_t33_loop.trips) : Fin 4 → Nat :=
  let c1_435 : Index := 1#32
  let c0_i32_362 : BitVec 32 := 0#32
  let c1_i32_364 : BitVec 32 := 1#32
  let arg18 : BitVec 32 := Scf.iv c0_i32_362 c1_i32_364 k0_t33
  let v316 : Index := Scalar.indexCast arg18
  let c0_436 : Index := 0#32
  let c1152 : Index := 1152#32
  ![1, v316.toNat, 0, 1152]
def k0_off395 (k0_t33 : Fin k0_t33_loop.trips) : Fin 5 → Nat :=
  let c1_438 : Index := 1#32
  let c9 : Index := 9#32
  let c96_i32_437 : BitVec 32 := 96#32
  let c0_i32_362 : BitVec 32 := 0#32
  let c1_i32_364 : BitVec 32 := 1#32
  let arg18 : BitVec 32 := Scf.iv c0_i32_362 c1_i32_364 k0_t33
  let v321 : BitVec 32 := Scalar.addi c96_i32_437 arg18
  let v322 : Index := Scalar.indexCast v321
  let c0_439 : Index := 0#32
  let c0_440 : Index := 0#32
  ![1, 9, v322.toNat, 0, 0]
@[reducible] def k0_t34_loop (v1 : BitVec 32) : Scf.Loop 32 :=
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_369 : BitVec 32 := 1#32
  ⟨c0_i32_367, v212, c1_i32_369⟩

def k0_off396 (v1 : BitVec 32) (k0_t34 : Fin (k0_t34_loop v1).trips) : Fin 1 → Nat :=
  let c0_i32_367 : BitVec 32 := 0#32
  let c1_i32_369 : BitVec 32 := 1#32
  let arg18 : BitVec 32 := Scf.iv c0_i32_367 c1_i32_369 k0_t34
  let v227 : Index := Scalar.indexCast arg18
  ![v227.toNat]
def k0_off397 (v228 : BitVec 32) : Fin 1 → Nat :=
  let c0_i32_381 : BitVec 32 := 0#32
  let v230 : BitVec 1 := Scalar.cmpi .sgt v228 c0_i32_381
  let v231 : BitVec 32 := Scalar.extui v230
  let c0_i32_382 : BitVec 32 := 0#32
  let v232 : BitVec 1 := Scalar.cmpi .slt v228 c0_i32_382
  let v233 : BitVec 32 := Scalar.extui v232
  let v234 : BitVec 32 := Scalar.subi v231 v233
  let c16_i32 : BitVec 32 := 16#32
  let c0_i32_383 : BitVec 32 := 0#32
  let v235 : BitVec 1 := Scalar.cmpi .sgt c16_i32 c0_i32_383
  let v236 : BitVec 32 := Scalar.extui v235
  let c0_i32_384 : BitVec 32 := 0#32
  let v237 : BitVec 1 := Scalar.cmpi .slt c16_i32 c0_i32_384
  let v238 : BitVec 32 := Scalar.extui v237
  let v239 : BitVec 32 := Scalar.subi v236 v238
  let v240 : BitVec 1 := Scalar.cmpi .ne v234 v239
  let v241 : BitVec 32 := Scalar.remsi v228 c16_i32
  let c0_i32_385 : BitVec 32 := 0#32
  let v242 : BitVec 1 := Scalar.cmpi .ne v241 c0_i32_385
  let v243 : BitVec 1 := Scalar.andi v240 v242
  let v229 : BitVec 32 := Scalar.divsi v228 c16_i32
  let c1_i32_386 : BitVec 32 := 1#32
  let v244 : BitVec 32 := Scalar.subi v229 c1_i32_386
  let v245 : BitVec 32 := Scalar.select v243 v244 v229
  let v256 : Index := Scalar.indexCast v245
  ![v256.toNat]

@[reducible] def k0_t35_loop (v228 : BitVec 32) (v257 : BitVec 32) : Scf.Loop 32 :=
  let c0_i32_399 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v266 : BitVec 32 := Scalar.subi v265 c0_i32_399
  let c1_i32_400 : BitVec 32 := 1#32
  let v268 : BitVec 32 := Scalar.divsi v266 c1_i32_400
  let v269 : BitVec 32 := Scalar.muli v268 c1_i32_400
  let v270 : BitVec 32 := Scalar.addi c0_i32_399 v269
  let c1_i32_401 : BitVec 32 := 1#32
  ⟨c0_i32_399, v270, c1_i32_401⟩

def k0_off398 (v1 : BitVec 32) (k0_t34 : Fin (k0_t34_loop v1).trips) : Fin 2 → Nat :=
  let c0_i32_454 : BitVec 32 := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  ![0, v226.toNat]
def k0_off399 (v1 : BitVec 32) (k0_t34 : Fin (k0_t34_loop v1).trips) (v228 : BitVec 32) (v257 : BitVec 32) (k0_t35 : Fin (k0_t35_loop v228 v257).trips) : Fin 5 → Nat :=
  let c0_i32_453 : BitVec 32 := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let c0_i32_399 : BitVec 32 := 0#32
  let c1_i32_401 : BitVec 32 := 1#32
  let arg19 : BitVec 32 := Scf.iv c0_i32_399 c1_i32_401 k0_t35
  let c0_i32_455 : BitVec 32 := 0#32
  let c0_i32_456 : BitVec 32 := 0#32
  ![0, v226.toNat, arg19.toNat, 0, 0]
@[reducible] def k0_t36_loop (v228 : BitVec 32) (v257 : BitVec 32) : Scf.Loop 32 :=
  let c0_i32_399 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v266 : BitVec 32 := Scalar.subi v265 c0_i32_399
  let c1_i32_400 : BitVec 32 := 1#32
  let v268 : BitVec 32 := Scalar.divsi v266 c1_i32_400
  let v269 : BitVec 32 := Scalar.muli v268 c1_i32_400
  let v270 : BitVec 32 := Scalar.addi c0_i32_399 v269
  let v267 : BitVec 32 := Scalar.addi c0_i32_399 v266
  let c1_i32_402 : BitVec 32 := 1#32
  ⟨v270, v267, c1_i32_402⟩
def k0_off400 (v1 : BitVec 32) (k0_t34 : Fin (k0_t34_loop v1).trips) : Fin 2 → Nat :=
  let c0_i32_454 : BitVec 32 := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  ![0, v226.toNat]
def k0_off401 (v1 : BitVec 32) (k0_t34 : Fin (k0_t34_loop v1).trips) (v228 : BitVec 32) (v257 : BitVec 32) (k0_t36 : Fin (k0_t36_loop v228 v257).trips) : Fin 5 → Nat :=
  let c0_i32_453 : BitVec 32 := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let c0_i32_399 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v266 : BitVec 32 := Scalar.subi v265 c0_i32_399
  let c1_i32_400 : BitVec 32 := 1#32
  let v268 : BitVec 32 := Scalar.divsi v266 c1_i32_400
  let v269 : BitVec 32 := Scalar.muli v268 c1_i32_400
  let v270 : BitVec 32 := Scalar.addi c0_i32_399 v269
  let c1_i32_402 : BitVec 32 := 1#32
  let arg19 : BitVec 32 := Scf.iv v270 c1_i32_402 k0_t36
  let c0_i32_455 : BitVec 32 := 0#32
  let c0_i32_456 : BitVec 32 := 0#32
  ![0, v226.toNat, arg19.toNat, 0, 0]
def k0_cond3 (v1 : BitVec 32) (k0_t34 : Fin (k0_t34_loop v1).trips) : BitVec 1 :=
  let c0_i32_367 : BitVec 32 := 0#32
  let c1_i32_369 : BitVec 32 := 1#32
  let arg18 : BitVec 32 := Scf.iv c0_i32_367 c1_i32_369 k0_t34
  let c2_i32_403 : BitVec 32 := 2#32
  let v271 : BitVec 1 := Scalar.cmpi .sge arg18 c2_i32_403
  let v272 : BitVec 32 := Scalar.extui v271
  let c0_i32_404 : BitVec 32 := 0#32
  let v273 : BitVec 1 := Scalar.cmpi .ne v272 c0_i32_404
  v273

def k0_mult5 : BitVec 32 :=
  let c0_i32_452 : BitVec 32 := 0#32
  c0_i32_452
def k0_off402 (v1 : BitVec 32) (k0_t34 : Fin (k0_t34_loop v1).trips) : Fin 2 → Nat :=
  let c0_i32_455 : BitVec 32 := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  ![0, v226.toNat]
def k0_off403 (v1 : BitVec 32) (k0_t34 : Fin (k0_t34_loop v1).trips) : Fin 5 → Nat :=
  let c0_i32_453 : BitVec 32 := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let c0_i32_458 : BitVec 32 := 0#32
  let c0_i32_459 : BitVec 32 := 0#32
  let c0_i32_460 : BitVec 32 := 0#32
  ![0, v226.toNat, 0, 0, 0]
@[reducible] def k0_t37_loop (v228 : BitVec 32) (v257 : BitVec 32) : Scf.Loop 32 :=
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_408 : BitVec 32 := 1#32
  ⟨c0_i32_406, v278, c1_i32_408⟩
def k0_off404 (v228 : BitVec 32) (v257 : BitVec 32) (k0_t37 : Fin (k0_t37_loop v228 v257).trips) : Fin 2 → Nat :=
  let c0_i32_381 : BitVec 32 := 0#32
  let v230 : BitVec 1 := Scalar.cmpi .sgt v228 c0_i32_381
  let v231 : BitVec 32 := Scalar.extui v230
  let c0_i32_382 : BitVec 32 := 0#32
  let v232 : BitVec 1 := Scalar.cmpi .slt v228 c0_i32_382
  let v233 : BitVec 32 := Scalar.extui v232
  let v234 : BitVec 32 := Scalar.subi v231 v233
  let c16_i32 : BitVec 32 := 16#32
  let c0_i32_383 : BitVec 32 := 0#32
  let v235 : BitVec 1 := Scalar.cmpi .sgt c16_i32 c0_i32_383
  let v236 : BitVec 32 := Scalar.extui v235
  let c0_i32_384 : BitVec 32 := 0#32
  let v237 : BitVec 1 := Scalar.cmpi .slt c16_i32 c0_i32_384
  let v238 : BitVec 32 := Scalar.extui v237
  let v239 : BitVec 32 := Scalar.subi v236 v238
  let v240 : BitVec 1 := Scalar.cmpi .ne v234 v239
  let v241 : BitVec 32 := Scalar.remsi v228 c16_i32
  let c0_i32_385 : BitVec 32 := 0#32
  let v242 : BitVec 1 := Scalar.cmpi .ne v241 c0_i32_385
  let v243 : BitVec 1 := Scalar.andi v240 v242
  let v229 : BitVec 32 := Scalar.divsi v228 c16_i32
  let c1_i32_386 : BitVec 32 := 1#32
  let v244 : BitVec 32 := Scalar.subi v229 c1_i32_386
  let v245 : BitVec 32 := Scalar.select v243 v244 v229
  let v328 : Index := Scalar.indexCast v245
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_452 : BitVec 32 := 8#32
  let v326 : BitVec 32 := Scalar.muli v255 c8_i32_452
  let c0_i32_406 : BitVec 32 := 0#32
  let c1_i32_408 : BitVec 32 := 1#32
  let arg19 : BitVec 32 := Scf.iv c0_i32_406 c1_i32_408 k0_t37
  let v327 : BitVec 32 := Scalar.addi v326 arg19
  let v329 : Index := Scalar.indexCast v327
  ![v328.toNat, v329.toNat]
def k0_off405 (v228 : BitVec 32) : Fin 1 → Nat :=
  let c0_i32_381 : BitVec 32 := 0#32
  let v230 : BitVec 1 := Scalar.cmpi .sgt v228 c0_i32_381
  let v231 : BitVec 32 := Scalar.extui v230
  let c0_i32_382 : BitVec 32 := 0#32
  let v232 : BitVec 1 := Scalar.cmpi .slt v228 c0_i32_382
  let v233 : BitVec 32 := Scalar.extui v232
  let v234 : BitVec 32 := Scalar.subi v231 v233
  let c16_i32 : BitVec 32 := 16#32
  let c0_i32_383 : BitVec 32 := 0#32
  let v235 : BitVec 1 := Scalar.cmpi .sgt c16_i32 c0_i32_383
  let v236 : BitVec 32 := Scalar.extui v235
  let c0_i32_384 : BitVec 32 := 0#32
  let v237 : BitVec 1 := Scalar.cmpi .slt c16_i32 c0_i32_384
  let v238 : BitVec 32 := Scalar.extui v237
  let v239 : BitVec 32 := Scalar.subi v236 v238
  let v240 : BitVec 1 := Scalar.cmpi .ne v234 v239
  let v241 : BitVec 32 := Scalar.remsi v228 c16_i32
  let c0_i32_385 : BitVec 32 := 0#32
  let v242 : BitVec 1 := Scalar.cmpi .ne v241 c0_i32_385
  let v243 : BitVec 1 := Scalar.andi v240 v242
  let v229 : BitVec 32 := Scalar.divsi v228 c16_i32
  let c1_i32_386 : BitVec 32 := 1#32
  let v244 : BitVec 32 := Scalar.subi v229 c1_i32_386
  let v245 : BitVec 32 := Scalar.select v243 v244 v229
  let v359 : Index := Scalar.indexCast v245
  ![v359.toNat]
def k0_mult6 (v228 : BitVec 32) (v257 : BitVec 32) (k0_t37 : Fin (k0_t37_loop v228 v257).trips) : BitVec 32 :=
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  v381
def k0_off406 (v1 : BitVec 32) (k0_t34 : Fin (k0_t34_loop v1).trips) (v228 : BitVec 32) (v257 : BitVec 32) (k0_t37 : Fin (k0_t37_loop v228 v257).trips) : Fin 5 → Nat :=
  let c0 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v383 : Index := Scalar.indexCast v226
  let c0_i32_406 : BitVec 32 := 0#32
  let c1_i32_408 : BitVec 32 := 1#32
  let arg19 : BitVec 32 := Scf.iv c0_i32_406 c1_i32_408 k0_t37
  let v384 : Index := Scalar.indexCast arg19
  let c0_474 : Index := 0#32
  let c0_475 : Index := 0#32
  ![0, v383.toNat, v384.toNat, 0, 0]
def k0_off407 (v330 : BitVec 32) : Fin 5 → Nat :=
  let c0_476 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v388 : Index := Scalar.indexCast v347
  let c0_477 : Index := 0#32
  let c0_478 : Index := 0#32
  let c0_479 : Index := 0#32
  ![0, v388.toNat, 0, 0, 0]

def k0_off408 (v1 : BitVec 32) (k0_t34 : Fin (k0_t34_loop v1).trips) (v228 : BitVec 32) (v257 : BitVec 32) (k0_t37 : Fin (k0_t37_loop v228 v257).trips) : Fin 5 → Nat :=
  let c0_482 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v405 : Index := Scalar.indexCast v226
  let c0_483 : Index := 0#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v406 : Index := Scalar.indexCast v382
  let c0_484 : Index := 0#32
  ![0, v405.toNat, 0, v406.toNat, 0]
def k0_off409 (v330 : BitVec 32) : Fin 5 → Nat :=
  let c0_485 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v410 : Index := Scalar.indexCast v347
  let c1 : Index := 1#32
  let c0_486 : Index := 0#32
  let c0_487 : Index := 0#32
  ![0, v410.toNat, 1, 0, 0]
def k0_off410 (v1 : BitVec 32) (k0_t34 : Fin (k0_t34_loop v1).trips) (v228 : BitVec 32) (v257 : BitVec 32) (k0_t37 : Fin (k0_t37_loop v228 v257).trips) : Fin 5 → Nat :=
  let c0_490 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v427 : Index := Scalar.indexCast v226
  let c1_491 : Index := 1#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v428 : Index := Scalar.indexCast v382
  let c0_492 : Index := 0#32
  ![0, v427.toNat, 1, v428.toNat, 0]
def k0_off411 (v1 : BitVec 32) (k0_t34 : Fin (k0_t34_loop v1).trips) (v228 : BitVec 32) (v257 : BitVec 32) (k0_t37 : Fin (k0_t37_loop v228 v257).trips) : Fin 5 → Nat :=
  let c0_493 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v432 : Index := Scalar.indexCast v226
  let c0_i32_406 : BitVec 32 := 0#32
  let c1_i32_408 : BitVec 32 := 1#32
  let arg19 : BitVec 32 := Scf.iv c0_i32_406 c1_i32_408 k0_t37
  let v433 : Index := Scalar.indexCast arg19
  let c32 : Index := 32#32
  let c0_494 : Index := 0#32
  ![0, v432.toNat, v433.toNat, 32, 0]
def k0_off412 (v330 : BitVec 32) : Fin 5 → Nat :=
  let c0_495 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v437 : Index := Scalar.indexCast v347
  let c2 : Index := 2#32
  let c0_496 : Index := 0#32
  let c0_497 : Index := 0#32
  ![0, v437.toNat, 2, 0, 0]
def k0_off413 (v1 : BitVec 32) (k0_t34 : Fin (k0_t34_loop v1).trips) (v228 : BitVec 32) (v257 : BitVec 32) (k0_t37 : Fin (k0_t37_loop v228 v257).trips) : Fin 5 → Nat :=
  let c0_500 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v454 : Index := Scalar.indexCast v226
  let c2_501 : Index := 2#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v455 : Index := Scalar.indexCast v382
  let c0_502 : Index := 0#32
  ![0, v454.toNat, 2, v455.toNat, 0]
def k0_off414 (v330 : BitVec 32) : Fin 5 → Nat :=
  let c0_503 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v459 : Index := Scalar.indexCast v347
  let c3 : Index := 3#32
  let c0_504 : Index := 0#32
  let c0_505 : Index := 0#32
  ![0, v459.toNat, 3, 0, 0]
def k0_off415 (v1 : BitVec 32) (k0_t34 : Fin (k0_t34_loop v1).trips) (v228 : BitVec 32) (v257 : BitVec 32) (k0_t37 : Fin (k0_t37_loop v228 v257).trips) : Fin 5 → Nat :=
  let c0_508 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v476 : Index := Scalar.indexCast v226
  let c3_509 : Index := 3#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v477 : Index := Scalar.indexCast v382
  let c0_510 : Index := 0#32
  ![0, v476.toNat, 3, v477.toNat, 0]
def k0_off416 (v1 : BitVec 32) (k0_t34 : Fin (k0_t34_loop v1).trips) (v228 : BitVec 32) (v257 : BitVec 32) (k0_t37 : Fin (k0_t37_loop v228 v257).trips) : Fin 5 → Nat :=
  let c0_511 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v481 : Index := Scalar.indexCast v226
  let c0_i32_406 : BitVec 32 := 0#32
  let c1_i32_408 : BitVec 32 := 1#32
  let arg19 : BitVec 32 := Scf.iv c0_i32_406 c1_i32_408 k0_t37
  let v482 : Index := Scalar.indexCast arg19
  let c64 : Index := 64#32
  let c0_512 : Index := 0#32
  ![0, v481.toNat, v482.toNat, 64, 0]
def k0_off417 (v330 : BitVec 32) : Fin 5 → Nat :=
  let c0_513 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v486 : Index := Scalar.indexCast v347
  let c4 : Index := 4#32
  let c0_514 : Index := 0#32
  let c0_515 : Index := 0#32
  ![0, v486.toNat, 4, 0, 0]
def k0_off418 (v1 : BitVec 32) (k0_t34 : Fin (k0_t34_loop v1).trips) (v228 : BitVec 32) (v257 : BitVec 32) (k0_t37 : Fin (k0_t37_loop v228 v257).trips) : Fin 5 → Nat :=
  let c0_518 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v503 : Index := Scalar.indexCast v226
  let c4_519 : Index := 4#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v504 : Index := Scalar.indexCast v382
  let c0_520 : Index := 0#32
  ![0, v503.toNat, 4, v504.toNat, 0]
def k0_off419 (v330 : BitVec 32) : Fin 5 → Nat :=
  let c0_521 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v508 : Index := Scalar.indexCast v347
  let c5 : Index := 5#32
  let c0_522 : Index := 0#32
  let c0_523 : Index := 0#32
  ![0, v508.toNat, 5, 0, 0]
def k0_off420 (v1 : BitVec 32) (k0_t34 : Fin (k0_t34_loop v1).trips) (v228 : BitVec 32) (v257 : BitVec 32) (k0_t37 : Fin (k0_t37_loop v228 v257).trips) : Fin 5 → Nat :=
  let c0_526 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v525 : Index := Scalar.indexCast v226
  let c5_527 : Index := 5#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v526 : Index := Scalar.indexCast v382
  let c0_528 : Index := 0#32
  ![0, v525.toNat, 5, v526.toNat, 0]
def k0_off421 (v1 : BitVec 32) (k0_t34 : Fin (k0_t34_loop v1).trips) (v228 : BitVec 32) (v257 : BitVec 32) (k0_t37 : Fin (k0_t37_loop v228 v257).trips) : Fin 5 → Nat :=
  let c0_529 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v530 : Index := Scalar.indexCast v226
  let c0_i32_406 : BitVec 32 := 0#32
  let c1_i32_408 : BitVec 32 := 1#32
  let arg19 : BitVec 32 := Scf.iv c0_i32_406 c1_i32_408 k0_t37
  let v531 : Index := Scalar.indexCast arg19
  let c96 : Index := 96#32
  let c0_530 : Index := 0#32
  ![0, v530.toNat, v531.toNat, 96, 0]
def k0_off422 (v330 : BitVec 32) : Fin 5 → Nat :=
  let c0_531 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v535 : Index := Scalar.indexCast v347
  let c6 : Index := 6#32
  let c0_532 : Index := 0#32
  let c0_533 : Index := 0#32
  ![0, v535.toNat, 6, 0, 0]
def k0_off423 (v1 : BitVec 32) (k0_t34 : Fin (k0_t34_loop v1).trips) (v228 : BitVec 32) (v257 : BitVec 32) (k0_t37 : Fin (k0_t37_loop v228 v257).trips) : Fin 5 → Nat :=
  let c0_536 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v552 : Index := Scalar.indexCast v226
  let c6_537 : Index := 6#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v553 : Index := Scalar.indexCast v382
  let c0_538 : Index := 0#32
  ![0, v552.toNat, 6, v553.toNat, 0]
def k0_off424 (v330 : BitVec 32) : Fin 5 → Nat :=
  let c0_539 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v557 : Index := Scalar.indexCast v347
  let c7 : Index := 7#32
  let c0_540 : Index := 0#32
  let c0_541 : Index := 0#32
  ![0, v557.toNat, 7, 0, 0]
def k0_off425 (v1 : BitVec 32) (k0_t34 : Fin (k0_t34_loop v1).trips) (v228 : BitVec 32) (v257 : BitVec 32) (k0_t37 : Fin (k0_t37_loop v228 v257).trips) : Fin 5 → Nat :=
  let c0_544 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v574 : Index := Scalar.indexCast v226
  let c7_545 : Index := 7#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v575 : Index := Scalar.indexCast v382
  let c0_546 : Index := 0#32
  ![0, v574.toNat, 7, v575.toNat, 0]
def k0_off426 (v1 : BitVec 32) (k0_t34 : Fin (k0_t34_loop v1).trips) (v228 : BitVec 32) (v257 : BitVec 32) (k0_t37 : Fin (k0_t37_loop v228 v257).trips) : Fin 5 → Nat :=
  let c0_547 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v579 : Index := Scalar.indexCast v226
  let c0_i32_406 : BitVec 32 := 0#32
  let c1_i32_408 : BitVec 32 := 1#32
  let arg19 : BitVec 32 := Scf.iv c0_i32_406 c1_i32_408 k0_t37
  let v580 : Index := Scalar.indexCast arg19
  let c128 : Index := 128#32
  let c0_548 : Index := 0#32
  ![0, v579.toNat, v580.toNat, 128, 0]
def k0_off427 (v330 : BitVec 32) : Fin 5 → Nat :=
  let c0_549 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v584 : Index := Scalar.indexCast v347
  let c8 : Index := 8#32
  let c0_550 : Index := 0#32
  let c0_551 : Index := 0#32
  ![0, v584.toNat, 8, 0, 0]
def k0_off428 (v1 : BitVec 32) (k0_t34 : Fin (k0_t34_loop v1).trips) (v228 : BitVec 32) (v257 : BitVec 32) (k0_t37 : Fin (k0_t37_loop v228 v257).trips) : Fin 5 → Nat :=
  let c0_554 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v601 : Index := Scalar.indexCast v226
  let c8_555 : Index := 8#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v602 : Index := Scalar.indexCast v382
  let c0_556 : Index := 0#32
  ![0, v601.toNat, 8, v602.toNat, 0]
def k0_off429 (v330 : BitVec 32) : Fin 5 → Nat :=
  let c0_557 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v606 : Index := Scalar.indexCast v347
  let c9 : Index := 9#32
  let c0_558 : Index := 0#32
  let c0_559 : Index := 0#32
  ![0, v606.toNat, 9, 0, 0]
def k0_off430 (v1 : BitVec 32) (k0_t34 : Fin (k0_t34_loop v1).trips) (v228 : BitVec 32) (v257 : BitVec 32) (k0_t37 : Fin (k0_t37_loop v228 v257).trips) : Fin 5 → Nat :=
  let c0_562 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v623 : Index := Scalar.indexCast v226
  let c9_563 : Index := 9#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v624 : Index := Scalar.indexCast v382
  let c0_564 : Index := 0#32
  ![0, v623.toNat, 9, v624.toNat, 0]
def k0_off431 (v1 : BitVec 32) (k0_t34 : Fin (k0_t34_loop v1).trips) (v228 : BitVec 32) (v257 : BitVec 32) (k0_t37 : Fin (k0_t37_loop v228 v257).trips) : Fin 5 → Nat :=
  let c0_565 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v628 : Index := Scalar.indexCast v226
  let c0_i32_406 : BitVec 32 := 0#32
  let c1_i32_408 : BitVec 32 := 1#32
  let arg19 : BitVec 32 := Scf.iv c0_i32_406 c1_i32_408 k0_t37
  let v629 : Index := Scalar.indexCast arg19
  let c160 : Index := 160#32
  let c0_566 : Index := 0#32
  ![0, v628.toNat, v629.toNat, 160, 0]
def k0_off432 (v330 : BitVec 32) : Fin 5 → Nat :=
  let c0_567 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v633 : Index := Scalar.indexCast v347
  let c10 : Index := 10#32
  let c0_568 : Index := 0#32
  let c0_569 : Index := 0#32
  ![0, v633.toNat, 10, 0, 0]
def k0_off433 (v1 : BitVec 32) (k0_t34 : Fin (k0_t34_loop v1).trips) (v228 : BitVec 32) (v257 : BitVec 32) (k0_t37 : Fin (k0_t37_loop v228 v257).trips) : Fin 5 → Nat :=
  let c0_572 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v650 : Index := Scalar.indexCast v226
  let c10_573 : Index := 10#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v651 : Index := Scalar.indexCast v382
  let c0_574 : Index := 0#32
  ![0, v650.toNat, 10, v651.toNat, 0]
def k0_off434 (v330 : BitVec 32) : Fin 5 → Nat :=
  let c0_575 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v655 : Index := Scalar.indexCast v347
  let c11 : Index := 11#32
  let c0_576 : Index := 0#32
  let c0_577 : Index := 0#32
  ![0, v655.toNat, 11, 0, 0]
def k0_off435 (v1 : BitVec 32) (k0_t34 : Fin (k0_t34_loop v1).trips) (v228 : BitVec 32) (v257 : BitVec 32) (k0_t37 : Fin (k0_t37_loop v228 v257).trips) : Fin 5 → Nat :=
  let c0_580 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v672 : Index := Scalar.indexCast v226
  let c11_581 : Index := 11#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v673 : Index := Scalar.indexCast v382
  let c0_582 : Index := 0#32
  ![0, v672.toNat, 11, v673.toNat, 0]
def k0_off436 (v1 : BitVec 32) (k0_t34 : Fin (k0_t34_loop v1).trips) (v228 : BitVec 32) (v257 : BitVec 32) (k0_t37 : Fin (k0_t37_loop v228 v257).trips) : Fin 5 → Nat :=
  let c0_583 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v677 : Index := Scalar.indexCast v226
  let c0_i32_406 : BitVec 32 := 0#32
  let c1_i32_408 : BitVec 32 := 1#32
  let arg19 : BitVec 32 := Scf.iv c0_i32_406 c1_i32_408 k0_t37
  let v678 : Index := Scalar.indexCast arg19
  let c192 : Index := 192#32
  let c0_584 : Index := 0#32
  ![0, v677.toNat, v678.toNat, 192, 0]
def k0_off437 (v330 : BitVec 32) : Fin 5 → Nat :=
  let c0_585 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v682 : Index := Scalar.indexCast v347
  let c12 : Index := 12#32
  let c0_586 : Index := 0#32
  let c0_587 : Index := 0#32
  ![0, v682.toNat, 12, 0, 0]
def k0_off438 (v1 : BitVec 32) (k0_t34 : Fin (k0_t34_loop v1).trips) (v228 : BitVec 32) (v257 : BitVec 32) (k0_t37 : Fin (k0_t37_loop v228 v257).trips) : Fin 5 → Nat :=
  let c0_590 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v699 : Index := Scalar.indexCast v226
  let c12_591 : Index := 12#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v700 : Index := Scalar.indexCast v382
  let c0_592 : Index := 0#32
  ![0, v699.toNat, 12, v700.toNat, 0]
def k0_off439 (v330 : BitVec 32) : Fin 5 → Nat :=
  let c0_593 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v704 : Index := Scalar.indexCast v347
  let c13 : Index := 13#32
  let c0_594 : Index := 0#32
  let c0_595 : Index := 0#32
  ![0, v704.toNat, 13, 0, 0]
def k0_off440 (v1 : BitVec 32) (k0_t34 : Fin (k0_t34_loop v1).trips) (v228 : BitVec 32) (v257 : BitVec 32) (k0_t37 : Fin (k0_t37_loop v228 v257).trips) : Fin 5 → Nat :=
  let c0_598 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v721 : Index := Scalar.indexCast v226
  let c13_599 : Index := 13#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v722 : Index := Scalar.indexCast v382
  let c0_600 : Index := 0#32
  ![0, v721.toNat, 13, v722.toNat, 0]
def k0_off441 (v1 : BitVec 32) (k0_t34 : Fin (k0_t34_loop v1).trips) (v228 : BitVec 32) (v257 : BitVec 32) (k0_t37 : Fin (k0_t37_loop v228 v257).trips) : Fin 5 → Nat :=
  let c0_601 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v726 : Index := Scalar.indexCast v226
  let c0_i32_406 : BitVec 32 := 0#32
  let c1_i32_408 : BitVec 32 := 1#32
  let arg19 : BitVec 32 := Scf.iv c0_i32_406 c1_i32_408 k0_t37
  let v727 : Index := Scalar.indexCast arg19
  let c224 : Index := 224#32
  let c0_602 : Index := 0#32
  ![0, v726.toNat, v727.toNat, 224, 0]
def k0_off442 (v330 : BitVec 32) : Fin 5 → Nat :=
  let c0_603 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v731 : Index := Scalar.indexCast v347
  let c14 : Index := 14#32
  let c0_604 : Index := 0#32
  let c0_605 : Index := 0#32
  ![0, v731.toNat, 14, 0, 0]
def k0_off443 (v1 : BitVec 32) (k0_t34 : Fin (k0_t34_loop v1).trips) (v228 : BitVec 32) (v257 : BitVec 32) (k0_t37 : Fin (k0_t37_loop v228 v257).trips) : Fin 5 → Nat :=
  let c0_608 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v748 : Index := Scalar.indexCast v226
  let c14_609 : Index := 14#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v749 : Index := Scalar.indexCast v382
  let c0_610 : Index := 0#32
  ![0, v748.toNat, 14, v749.toNat, 0]
def k0_off444 (v330 : BitVec 32) : Fin 5 → Nat :=
  let c0_611 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v753 : Index := Scalar.indexCast v347
  let c15 : Index := 15#32
  let c0_612 : Index := 0#32
  let c0_613 : Index := 0#32
  ![0, v753.toNat, 15, 0, 0]
def k0_off445 (v1 : BitVec 32) (k0_t34 : Fin (k0_t34_loop v1).trips) (v228 : BitVec 32) (v257 : BitVec 32) (k0_t37 : Fin (k0_t37_loop v228 v257).trips) : Fin 5 → Nat :=
  let c0_616 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v770 : Index := Scalar.indexCast v226
  let c15_617 : Index := 15#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v771 : Index := Scalar.indexCast v382
  let c0_618 : Index := 0#32
  ![0, v770.toNat, 15, v771.toNat, 0]
def k0_off446 (v1 : BitVec 32) (k0_t34 : Fin (k0_t34_loop v1).trips) (v228 : BitVec 32) (v257 : BitVec 32) (k0_t37 : Fin (k0_t37_loop v228 v257).trips) : Fin 5 → Nat :=
  let c0_619 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v775 : Index := Scalar.indexCast v226
  let c0_i32_406 : BitVec 32 := 0#32
  let c1_i32_408 : BitVec 32 := 1#32
  let arg19 : BitVec 32 := Scf.iv c0_i32_406 c1_i32_408 k0_t37
  let v776 : Index := Scalar.indexCast arg19
  let c256 : Index := 256#32
  let c0_620 : Index := 0#32
  ![0, v775.toNat, v776.toNat, 256, 0]
def k0_off447 (v330 : BitVec 32) : Fin 5 → Nat :=
  let c0_621 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v780 : Index := Scalar.indexCast v347
  let c16 : Index := 16#32
  let c0_622 : Index := 0#32
  let c0_623 : Index := 0#32
  ![0, v780.toNat, 16, 0, 0]
def k0_off448 (v1 : BitVec 32) (k0_t34 : Fin (k0_t34_loop v1).trips) (v228 : BitVec 32) (v257 : BitVec 32) (k0_t37 : Fin (k0_t37_loop v228 v257).trips) : Fin 5 → Nat :=
  let c0_626 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v797 : Index := Scalar.indexCast v226
  let c16_627 : Index := 16#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v798 : Index := Scalar.indexCast v382
  let c0_628 : Index := 0#32
  ![0, v797.toNat, 16, v798.toNat, 0]
def k0_off449 (v330 : BitVec 32) : Fin 5 → Nat :=
  let c0_629 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v802 : Index := Scalar.indexCast v347
  let c17 : Index := 17#32
  let c0_630 : Index := 0#32
  let c0_631 : Index := 0#32
  ![0, v802.toNat, 17, 0, 0]
def k0_off450 (v1 : BitVec 32) (k0_t34 : Fin (k0_t34_loop v1).trips) (v228 : BitVec 32) (v257 : BitVec 32) (k0_t37 : Fin (k0_t37_loop v228 v257).trips) : Fin 5 → Nat :=
  let c0_634 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v819 : Index := Scalar.indexCast v226
  let c17_635 : Index := 17#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v820 : Index := Scalar.indexCast v382
  let c0_636 : Index := 0#32
  ![0, v819.toNat, 17, v820.toNat, 0]
def k0_off451 (v1 : BitVec 32) (k0_t34 : Fin (k0_t34_loop v1).trips) (v228 : BitVec 32) (v257 : BitVec 32) (k0_t37 : Fin (k0_t37_loop v228 v257).trips) : Fin 5 → Nat :=
  let c0_637 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v824 : Index := Scalar.indexCast v226
  let c0_i32_406 : BitVec 32 := 0#32
  let c1_i32_408 : BitVec 32 := 1#32
  let arg19 : BitVec 32 := Scf.iv c0_i32_406 c1_i32_408 k0_t37
  let v825 : Index := Scalar.indexCast arg19
  let c288 : Index := 288#32
  let c0_638 : Index := 0#32
  ![0, v824.toNat, v825.toNat, 288, 0]
def k0_off452 (v330 : BitVec 32) : Fin 5 → Nat :=
  let c0_639 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v829 : Index := Scalar.indexCast v347
  let c18 : Index := 18#32
  let c0_640 : Index := 0#32
  let c0_641 : Index := 0#32
  ![0, v829.toNat, 18, 0, 0]
def k0_off453 (v1 : BitVec 32) (k0_t34 : Fin (k0_t34_loop v1).trips) (v228 : BitVec 32) (v257 : BitVec 32) (k0_t37 : Fin (k0_t37_loop v228 v257).trips) : Fin 5 → Nat :=
  let c0_644 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v846 : Index := Scalar.indexCast v226
  let c18_645 : Index := 18#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v847 : Index := Scalar.indexCast v382
  let c0_646 : Index := 0#32
  ![0, v846.toNat, 18, v847.toNat, 0]
def k0_off454 (v330 : BitVec 32) : Fin 5 → Nat :=
  let c0_647 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v851 : Index := Scalar.indexCast v347
  let c19 : Index := 19#32
  let c0_648 : Index := 0#32
  let c0_649 : Index := 0#32
  ![0, v851.toNat, 19, 0, 0]
def k0_off455 (v1 : BitVec 32) (k0_t34 : Fin (k0_t34_loop v1).trips) (v228 : BitVec 32) (v257 : BitVec 32) (k0_t37 : Fin (k0_t37_loop v228 v257).trips) : Fin 5 → Nat :=
  let c0_652 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v868 : Index := Scalar.indexCast v226
  let c19_653 : Index := 19#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v869 : Index := Scalar.indexCast v382
  let c0_654 : Index := 0#32
  ![0, v868.toNat, 19, v869.toNat, 0]
def k0_off456 (v1 : BitVec 32) (k0_t34 : Fin (k0_t34_loop v1).trips) (v228 : BitVec 32) (v257 : BitVec 32) (k0_t37 : Fin (k0_t37_loop v228 v257).trips) : Fin 5 → Nat :=
  let c0_655 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v873 : Index := Scalar.indexCast v226
  let c0_i32_406 : BitVec 32 := 0#32
  let c1_i32_408 : BitVec 32 := 1#32
  let arg19 : BitVec 32 := Scf.iv c0_i32_406 c1_i32_408 k0_t37
  let v874 : Index := Scalar.indexCast arg19
  let c320 : Index := 320#32
  let c0_656 : Index := 0#32
  ![0, v873.toNat, v874.toNat, 320, 0]
def k0_off457 (v330 : BitVec 32) : Fin 5 → Nat :=
  let c0_657 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v878 : Index := Scalar.indexCast v347
  let c20 : Index := 20#32
  let c0_658 : Index := 0#32
  let c0_659 : Index := 0#32
  ![0, v878.toNat, 20, 0, 0]
def k0_off458 (v1 : BitVec 32) (k0_t34 : Fin (k0_t34_loop v1).trips) (v228 : BitVec 32) (v257 : BitVec 32) (k0_t37 : Fin (k0_t37_loop v228 v257).trips) : Fin 5 → Nat :=
  let c0_662 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v895 : Index := Scalar.indexCast v226
  let c20_663 : Index := 20#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v896 : Index := Scalar.indexCast v382
  let c0_664 : Index := 0#32
  ![0, v895.toNat, 20, v896.toNat, 0]
def k0_off459 (v330 : BitVec 32) : Fin 5 → Nat :=
  let c0_665 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v900 : Index := Scalar.indexCast v347
  let c21 : Index := 21#32
  let c0_666 : Index := 0#32
  let c0_667 : Index := 0#32
  ![0, v900.toNat, 21, 0, 0]
def k0_off460 (v1 : BitVec 32) (k0_t34 : Fin (k0_t34_loop v1).trips) (v228 : BitVec 32) (v257 : BitVec 32) (k0_t37 : Fin (k0_t37_loop v228 v257).trips) : Fin 5 → Nat :=
  let c0_670 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v917 : Index := Scalar.indexCast v226
  let c21_671 : Index := 21#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v918 : Index := Scalar.indexCast v382
  let c0_672 : Index := 0#32
  ![0, v917.toNat, 21, v918.toNat, 0]
def k0_off461 (v1 : BitVec 32) (k0_t34 : Fin (k0_t34_loop v1).trips) (v228 : BitVec 32) (v257 : BitVec 32) (k0_t37 : Fin (k0_t37_loop v228 v257).trips) : Fin 5 → Nat :=
  let c0_673 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v922 : Index := Scalar.indexCast v226
  let c0_i32_406 : BitVec 32 := 0#32
  let c1_i32_408 : BitVec 32 := 1#32
  let arg19 : BitVec 32 := Scf.iv c0_i32_406 c1_i32_408 k0_t37
  let v923 : Index := Scalar.indexCast arg19
  let c352 : Index := 352#32
  let c0_674 : Index := 0#32
  ![0, v922.toNat, v923.toNat, 352, 0]
def k0_off462 (v330 : BitVec 32) : Fin 5 → Nat :=
  let c0_675 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v927 : Index := Scalar.indexCast v347
  let c22 : Index := 22#32
  let c0_676 : Index := 0#32
  let c0_677 : Index := 0#32
  ![0, v927.toNat, 22, 0, 0]
def k0_off463 (v1 : BitVec 32) (k0_t34 : Fin (k0_t34_loop v1).trips) (v228 : BitVec 32) (v257 : BitVec 32) (k0_t37 : Fin (k0_t37_loop v228 v257).trips) : Fin 5 → Nat :=
  let c0_680 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v944 : Index := Scalar.indexCast v226
  let c22_681 : Index := 22#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v945 : Index := Scalar.indexCast v382
  let c0_682 : Index := 0#32
  ![0, v944.toNat, 22, v945.toNat, 0]
def k0_off464 (v330 : BitVec 32) : Fin 5 → Nat :=
  let c0_683 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v949 : Index := Scalar.indexCast v347
  let c23 : Index := 23#32
  let c0_684 : Index := 0#32
  let c0_685 : Index := 0#32
  ![0, v949.toNat, 23, 0, 0]
def k0_off465 (v1 : BitVec 32) (k0_t34 : Fin (k0_t34_loop v1).trips) (v228 : BitVec 32) (v257 : BitVec 32) (k0_t37 : Fin (k0_t37_loop v228 v257).trips) : Fin 5 → Nat :=
  let c0_688 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v966 : Index := Scalar.indexCast v226
  let c23_689 : Index := 23#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v967 : Index := Scalar.indexCast v382
  let c0_690 : Index := 0#32
  ![0, v966.toNat, 23, v967.toNat, 0]
def k0_off466 (v1 : BitVec 32) (k0_t34 : Fin (k0_t34_loop v1).trips) (v228 : BitVec 32) (v257 : BitVec 32) (k0_t37 : Fin (k0_t37_loop v228 v257).trips) : Fin 5 → Nat :=
  let c0_691 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v971 : Index := Scalar.indexCast v226
  let c0_i32_406 : BitVec 32 := 0#32
  let c1_i32_408 : BitVec 32 := 1#32
  let arg19 : BitVec 32 := Scf.iv c0_i32_406 c1_i32_408 k0_t37
  let v972 : Index := Scalar.indexCast arg19
  let c384 : Index := 384#32
  let c0_692 : Index := 0#32
  ![0, v971.toNat, v972.toNat, 384, 0]
def k0_off467 (v330 : BitVec 32) : Fin 5 → Nat :=
  let c0_693 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v976 : Index := Scalar.indexCast v347
  let c24 : Index := 24#32
  let c0_694 : Index := 0#32
  let c0_695 : Index := 0#32
  ![0, v976.toNat, 24, 0, 0]
def k0_off468 (v1 : BitVec 32) (k0_t34 : Fin (k0_t34_loop v1).trips) (v228 : BitVec 32) (v257 : BitVec 32) (k0_t37 : Fin (k0_t37_loop v228 v257).trips) : Fin 5 → Nat :=
  let c0_698 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v993 : Index := Scalar.indexCast v226
  let c24_699 : Index := 24#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v994 : Index := Scalar.indexCast v382
  let c0_700 : Index := 0#32
  ![0, v993.toNat, 24, v994.toNat, 0]
def k0_off469 (v330 : BitVec 32) : Fin 5 → Nat :=
  let c0_701 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v998 : Index := Scalar.indexCast v347
  let c25 : Index := 25#32
  let c0_702 : Index := 0#32
  let c0_703 : Index := 0#32
  ![0, v998.toNat, 25, 0, 0]
def k0_off470 (v1 : BitVec 32) (k0_t34 : Fin (k0_t34_loop v1).trips) (v228 : BitVec 32) (v257 : BitVec 32) (k0_t37 : Fin (k0_t37_loop v228 v257).trips) : Fin 5 → Nat :=
  let c0_706 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1015 : Index := Scalar.indexCast v226
  let c25_707 : Index := 25#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1016 : Index := Scalar.indexCast v382
  let c0_708 : Index := 0#32
  ![0, v1015.toNat, 25, v1016.toNat, 0]
def k0_off471 (v1 : BitVec 32) (k0_t34 : Fin (k0_t34_loop v1).trips) (v228 : BitVec 32) (v257 : BitVec 32) (k0_t37 : Fin (k0_t37_loop v228 v257).trips) : Fin 5 → Nat :=
  let c0_709 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1020 : Index := Scalar.indexCast v226
  let c0_i32_406 : BitVec 32 := 0#32
  let c1_i32_408 : BitVec 32 := 1#32
  let arg19 : BitVec 32 := Scf.iv c0_i32_406 c1_i32_408 k0_t37
  let v1021 : Index := Scalar.indexCast arg19
  let c416 : Index := 416#32
  let c0_710 : Index := 0#32
  ![0, v1020.toNat, v1021.toNat, 416, 0]
def k0_off472 (v330 : BitVec 32) : Fin 5 → Nat :=
  let c0_711 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1025 : Index := Scalar.indexCast v347
  let c26 : Index := 26#32
  let c0_712 : Index := 0#32
  let c0_713 : Index := 0#32
  ![0, v1025.toNat, 26, 0, 0]
def k0_off473 (v1 : BitVec 32) (k0_t34 : Fin (k0_t34_loop v1).trips) (v228 : BitVec 32) (v257 : BitVec 32) (k0_t37 : Fin (k0_t37_loop v228 v257).trips) : Fin 5 → Nat :=
  let c0_716 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1042 : Index := Scalar.indexCast v226
  let c26_717 : Index := 26#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1043 : Index := Scalar.indexCast v382
  let c0_718 : Index := 0#32
  ![0, v1042.toNat, 26, v1043.toNat, 0]
def k0_off474 (v330 : BitVec 32) : Fin 5 → Nat :=
  let c0_719 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1047 : Index := Scalar.indexCast v347
  let c27 : Index := 27#32
  let c0_720 : Index := 0#32
  let c0_721 : Index := 0#32
  ![0, v1047.toNat, 27, 0, 0]
def k0_off475 (v1 : BitVec 32) (k0_t34 : Fin (k0_t34_loop v1).trips) (v228 : BitVec 32) (v257 : BitVec 32) (k0_t37 : Fin (k0_t37_loop v228 v257).trips) : Fin 5 → Nat :=
  let c0_724 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1064 : Index := Scalar.indexCast v226
  let c27_725 : Index := 27#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1065 : Index := Scalar.indexCast v382
  let c0_726 : Index := 0#32
  ![0, v1064.toNat, 27, v1065.toNat, 0]
def k0_off476 (v1 : BitVec 32) (k0_t34 : Fin (k0_t34_loop v1).trips) (v228 : BitVec 32) (v257 : BitVec 32) (k0_t37 : Fin (k0_t37_loop v228 v257).trips) : Fin 5 → Nat :=
  let c0_727 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1069 : Index := Scalar.indexCast v226
  let c0_i32_406 : BitVec 32 := 0#32
  let c1_i32_408 : BitVec 32 := 1#32
  let arg19 : BitVec 32 := Scf.iv c0_i32_406 c1_i32_408 k0_t37
  let v1070 : Index := Scalar.indexCast arg19
  let c448 : Index := 448#32
  let c0_728 : Index := 0#32
  ![0, v1069.toNat, v1070.toNat, 448, 0]
def k0_off477 (v330 : BitVec 32) : Fin 5 → Nat :=
  let c0_729 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1074 : Index := Scalar.indexCast v347
  let c28 : Index := 28#32
  let c0_730 : Index := 0#32
  let c0_731 : Index := 0#32
  ![0, v1074.toNat, 28, 0, 0]
def k0_off478 (v1 : BitVec 32) (k0_t34 : Fin (k0_t34_loop v1).trips) (v228 : BitVec 32) (v257 : BitVec 32) (k0_t37 : Fin (k0_t37_loop v228 v257).trips) : Fin 5 → Nat :=
  let c0_734 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1091 : Index := Scalar.indexCast v226
  let c28_735 : Index := 28#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1092 : Index := Scalar.indexCast v382
  let c0_736 : Index := 0#32
  ![0, v1091.toNat, 28, v1092.toNat, 0]
def k0_off479 (v330 : BitVec 32) : Fin 5 → Nat :=
  let c0_737 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1096 : Index := Scalar.indexCast v347
  let c29 : Index := 29#32
  let c0_738 : Index := 0#32
  let c0_739 : Index := 0#32
  ![0, v1096.toNat, 29, 0, 0]
def k0_off480 (v1 : BitVec 32) (k0_t34 : Fin (k0_t34_loop v1).trips) (v228 : BitVec 32) (v257 : BitVec 32) (k0_t37 : Fin (k0_t37_loop v228 v257).trips) : Fin 5 → Nat :=
  let c0_742 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1113 : Index := Scalar.indexCast v226
  let c29_743 : Index := 29#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1114 : Index := Scalar.indexCast v382
  let c0_744 : Index := 0#32
  ![0, v1113.toNat, 29, v1114.toNat, 0]
def k0_off481 (v1 : BitVec 32) (k0_t34 : Fin (k0_t34_loop v1).trips) (v228 : BitVec 32) (v257 : BitVec 32) (k0_t37 : Fin (k0_t37_loop v228 v257).trips) : Fin 5 → Nat :=
  let c0_745 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1118 : Index := Scalar.indexCast v226
  let c0_i32_406 : BitVec 32 := 0#32
  let c1_i32_408 : BitVec 32 := 1#32
  let arg19 : BitVec 32 := Scf.iv c0_i32_406 c1_i32_408 k0_t37
  let v1119 : Index := Scalar.indexCast arg19
  let c480 : Index := 480#32
  let c0_746 : Index := 0#32
  ![0, v1118.toNat, v1119.toNat, 480, 0]
def k0_off482 (v330 : BitVec 32) : Fin 5 → Nat :=
  let c0_747 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1123 : Index := Scalar.indexCast v347
  let c30 : Index := 30#32
  let c0_748 : Index := 0#32
  let c0_749 : Index := 0#32
  ![0, v1123.toNat, 30, 0, 0]
def k0_off483 (v1 : BitVec 32) (k0_t34 : Fin (k0_t34_loop v1).trips) (v228 : BitVec 32) (v257 : BitVec 32) (k0_t37 : Fin (k0_t37_loop v228 v257).trips) : Fin 5 → Nat :=
  let c0_752 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1140 : Index := Scalar.indexCast v226
  let c30_753 : Index := 30#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1141 : Index := Scalar.indexCast v382
  let c0_754 : Index := 0#32
  ![0, v1140.toNat, 30, v1141.toNat, 0]
def k0_off484 (v330 : BitVec 32) : Fin 5 → Nat :=
  let c0_755 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1145 : Index := Scalar.indexCast v347
  let c31 : Index := 31#32
  let c0_756 : Index := 0#32
  let c0_757 : Index := 0#32
  ![0, v1145.toNat, 31, 0, 0]
def k0_off485 (v1 : BitVec 32) (k0_t34 : Fin (k0_t34_loop v1).trips) (v228 : BitVec 32) (v257 : BitVec 32) (k0_t37 : Fin (k0_t37_loop v228 v257).trips) : Fin 5 → Nat :=
  let c0_760 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1162 : Index := Scalar.indexCast v226
  let c31_761 : Index := 31#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1163 : Index := Scalar.indexCast v382
  let c0_762 : Index := 0#32
  ![0, v1162.toNat, 31, v1163.toNat, 0]
def k0_off486 (v1 : BitVec 32) (k0_t34 : Fin (k0_t34_loop v1).trips) (v228 : BitVec 32) (v257 : BitVec 32) (k0_t37 : Fin (k0_t37_loop v228 v257).trips) : Fin 5 → Nat :=
  let c0_763 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1167 : Index := Scalar.indexCast v226
  let c0_i32_406 : BitVec 32 := 0#32
  let c1_i32_408 : BitVec 32 := 1#32
  let arg19 : BitVec 32 := Scf.iv c0_i32_406 c1_i32_408 k0_t37
  let v1168 : Index := Scalar.indexCast arg19
  let c512 : Index := 512#32
  let c0_764 : Index := 0#32
  ![0, v1167.toNat, v1168.toNat, 512, 0]
def k0_off487 (v330 : BitVec 32) : Fin 5 → Nat :=
  let c0_765 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1172 : Index := Scalar.indexCast v347
  let c32_766 : Index := 32#32
  let c0_767 : Index := 0#32
  let c0_768 : Index := 0#32
  ![0, v1172.toNat, 32, 0, 0]
def k0_off488 (v1 : BitVec 32) (k0_t34 : Fin (k0_t34_loop v1).trips) (v228 : BitVec 32) (v257 : BitVec 32) (k0_t37 : Fin (k0_t37_loop v228 v257).trips) : Fin 5 → Nat :=
  let c0_771 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1189 : Index := Scalar.indexCast v226
  let c32_772 : Index := 32#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1190 : Index := Scalar.indexCast v382
  let c0_773 : Index := 0#32
  ![0, v1189.toNat, 32, v1190.toNat, 0]
def k0_off489 (v330 : BitVec 32) : Fin 5 → Nat :=
  let c0_774 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1194 : Index := Scalar.indexCast v347
  let c33 : Index := 33#32
  let c0_775 : Index := 0#32
  let c0_776 : Index := 0#32
  ![0, v1194.toNat, 33, 0, 0]
def k0_off490 (v1 : BitVec 32) (k0_t34 : Fin (k0_t34_loop v1).trips) (v228 : BitVec 32) (v257 : BitVec 32) (k0_t37 : Fin (k0_t37_loop v228 v257).trips) : Fin 5 → Nat :=
  let c0_779 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1211 : Index := Scalar.indexCast v226
  let c33_780 : Index := 33#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1212 : Index := Scalar.indexCast v382
  let c0_781 : Index := 0#32
  ![0, v1211.toNat, 33, v1212.toNat, 0]
def k0_off491 (v1 : BitVec 32) (k0_t34 : Fin (k0_t34_loop v1).trips) (v228 : BitVec 32) (v257 : BitVec 32) (k0_t37 : Fin (k0_t37_loop v228 v257).trips) : Fin 5 → Nat :=
  let c0_782 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1216 : Index := Scalar.indexCast v226
  let c0_i32_406 : BitVec 32 := 0#32
  let c1_i32_408 : BitVec 32 := 1#32
  let arg19 : BitVec 32 := Scf.iv c0_i32_406 c1_i32_408 k0_t37
  let v1217 : Index := Scalar.indexCast arg19
  let c544 : Index := 544#32
  let c0_783 : Index := 0#32
  ![0, v1216.toNat, v1217.toNat, 544, 0]
def k0_off492 (v330 : BitVec 32) : Fin 5 → Nat :=
  let c0_784 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1221 : Index := Scalar.indexCast v347
  let c34 : Index := 34#32
  let c0_785 : Index := 0#32
  let c0_786 : Index := 0#32
  ![0, v1221.toNat, 34, 0, 0]
def k0_off493 (v1 : BitVec 32) (k0_t34 : Fin (k0_t34_loop v1).trips) (v228 : BitVec 32) (v257 : BitVec 32) (k0_t37 : Fin (k0_t37_loop v228 v257).trips) : Fin 5 → Nat :=
  let c0_789 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1238 : Index := Scalar.indexCast v226
  let c34_790 : Index := 34#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1239 : Index := Scalar.indexCast v382
  let c0_791 : Index := 0#32
  ![0, v1238.toNat, 34, v1239.toNat, 0]
def k0_off494 (v330 : BitVec 32) : Fin 5 → Nat :=
  let c0_792 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1243 : Index := Scalar.indexCast v347
  let c35 : Index := 35#32
  let c0_793 : Index := 0#32
  let c0_794 : Index := 0#32
  ![0, v1243.toNat, 35, 0, 0]
def k0_off495 (v1 : BitVec 32) (k0_t34 : Fin (k0_t34_loop v1).trips) (v228 : BitVec 32) (v257 : BitVec 32) (k0_t37 : Fin (k0_t37_loop v228 v257).trips) : Fin 5 → Nat :=
  let c0_797 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1260 : Index := Scalar.indexCast v226
  let c35_798 : Index := 35#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1261 : Index := Scalar.indexCast v382
  let c0_799 : Index := 0#32
  ![0, v1260.toNat, 35, v1261.toNat, 0]
def k0_off496 (v1 : BitVec 32) (k0_t34 : Fin (k0_t34_loop v1).trips) (v228 : BitVec 32) (v257 : BitVec 32) (k0_t37 : Fin (k0_t37_loop v228 v257).trips) : Fin 5 → Nat :=
  let c0_800 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1265 : Index := Scalar.indexCast v226
  let c0_i32_406 : BitVec 32 := 0#32
  let c1_i32_408 : BitVec 32 := 1#32
  let arg19 : BitVec 32 := Scf.iv c0_i32_406 c1_i32_408 k0_t37
  let v1266 : Index := Scalar.indexCast arg19
  let c576 : Index := 576#32
  let c0_801 : Index := 0#32
  ![0, v1265.toNat, v1266.toNat, 576, 0]
def k0_off497 (v330 : BitVec 32) : Fin 5 → Nat :=
  let c0_802 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1270 : Index := Scalar.indexCast v347
  let c36 : Index := 36#32
  let c0_803 : Index := 0#32
  let c0_804 : Index := 0#32
  ![0, v1270.toNat, 36, 0, 0]
def k0_off498 (v1 : BitVec 32) (k0_t34 : Fin (k0_t34_loop v1).trips) (v228 : BitVec 32) (v257 : BitVec 32) (k0_t37 : Fin (k0_t37_loop v228 v257).trips) : Fin 5 → Nat :=
  let c0_807 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1287 : Index := Scalar.indexCast v226
  let c36_808 : Index := 36#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1288 : Index := Scalar.indexCast v382
  let c0_809 : Index := 0#32
  ![0, v1287.toNat, 36, v1288.toNat, 0]
def k0_off499 (v330 : BitVec 32) : Fin 5 → Nat :=
  let c0_810 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1292 : Index := Scalar.indexCast v347
  let c37 : Index := 37#32
  let c0_811 : Index := 0#32
  let c0_812 : Index := 0#32
  ![0, v1292.toNat, 37, 0, 0]
def k0_off500 (v1 : BitVec 32) (k0_t34 : Fin (k0_t34_loop v1).trips) (v228 : BitVec 32) (v257 : BitVec 32) (k0_t37 : Fin (k0_t37_loop v228 v257).trips) : Fin 5 → Nat :=
  let c0_815 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1309 : Index := Scalar.indexCast v226
  let c37_816 : Index := 37#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1310 : Index := Scalar.indexCast v382
  let c0_817 : Index := 0#32
  ![0, v1309.toNat, 37, v1310.toNat, 0]
def k0_off501 (v1 : BitVec 32) (k0_t34 : Fin (k0_t34_loop v1).trips) (v228 : BitVec 32) (v257 : BitVec 32) (k0_t37 : Fin (k0_t37_loop v228 v257).trips) : Fin 5 → Nat :=
  let c0_818 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1314 : Index := Scalar.indexCast v226
  let c0_i32_406 : BitVec 32 := 0#32
  let c1_i32_408 : BitVec 32 := 1#32
  let arg19 : BitVec 32 := Scf.iv c0_i32_406 c1_i32_408 k0_t37
  let v1315 : Index := Scalar.indexCast arg19
  let c608 : Index := 608#32
  let c0_819 : Index := 0#32
  ![0, v1314.toNat, v1315.toNat, 608, 0]
def k0_off502 (v330 : BitVec 32) : Fin 5 → Nat :=
  let c0_820 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1319 : Index := Scalar.indexCast v347
  let c38 : Index := 38#32
  let c0_821 : Index := 0#32
  let c0_822 : Index := 0#32
  ![0, v1319.toNat, 38, 0, 0]
def k0_off503 (v1 : BitVec 32) (k0_t34 : Fin (k0_t34_loop v1).trips) (v228 : BitVec 32) (v257 : BitVec 32) (k0_t37 : Fin (k0_t37_loop v228 v257).trips) : Fin 5 → Nat :=
  let c0_825 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1336 : Index := Scalar.indexCast v226
  let c38_826 : Index := 38#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1337 : Index := Scalar.indexCast v382
  let c0_827 : Index := 0#32
  ![0, v1336.toNat, 38, v1337.toNat, 0]
def k0_off504 (v330 : BitVec 32) : Fin 5 → Nat :=
  let c0_828 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1341 : Index := Scalar.indexCast v347
  let c39 : Index := 39#32
  let c0_829 : Index := 0#32
  let c0_830 : Index := 0#32
  ![0, v1341.toNat, 39, 0, 0]
def k0_off505 (v1 : BitVec 32) (k0_t34 : Fin (k0_t34_loop v1).trips) (v228 : BitVec 32) (v257 : BitVec 32) (k0_t37 : Fin (k0_t37_loop v228 v257).trips) : Fin 5 → Nat :=
  let c0_833 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1358 : Index := Scalar.indexCast v226
  let c39_834 : Index := 39#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1359 : Index := Scalar.indexCast v382
  let c0_835 : Index := 0#32
  ![0, v1358.toNat, 39, v1359.toNat, 0]
def k0_off506 (v1 : BitVec 32) (k0_t34 : Fin (k0_t34_loop v1).trips) (v228 : BitVec 32) (v257 : BitVec 32) (k0_t37 : Fin (k0_t37_loop v228 v257).trips) : Fin 5 → Nat :=
  let c0_836 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1363 : Index := Scalar.indexCast v226
  let c0_i32_406 : BitVec 32 := 0#32
  let c1_i32_408 : BitVec 32 := 1#32
  let arg19 : BitVec 32 := Scf.iv c0_i32_406 c1_i32_408 k0_t37
  let v1364 : Index := Scalar.indexCast arg19
  let c640 : Index := 640#32
  let c0_837 : Index := 0#32
  ![0, v1363.toNat, v1364.toNat, 640, 0]
def k0_off507 (v330 : BitVec 32) : Fin 5 → Nat :=
  let c0_838 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1368 : Index := Scalar.indexCast v347
  let c40 : Index := 40#32
  let c0_839 : Index := 0#32
  let c0_840 : Index := 0#32
  ![0, v1368.toNat, 40, 0, 0]
def k0_off508 (v1 : BitVec 32) (k0_t34 : Fin (k0_t34_loop v1).trips) (v228 : BitVec 32) (v257 : BitVec 32) (k0_t37 : Fin (k0_t37_loop v228 v257).trips) : Fin 5 → Nat :=
  let c0_843 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1385 : Index := Scalar.indexCast v226
  let c40_844 : Index := 40#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1386 : Index := Scalar.indexCast v382
  let c0_845 : Index := 0#32
  ![0, v1385.toNat, 40, v1386.toNat, 0]
def k0_off509 (v330 : BitVec 32) : Fin 5 → Nat :=
  let c0_846 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1390 : Index := Scalar.indexCast v347
  let c41 : Index := 41#32
  let c0_847 : Index := 0#32
  let c0_848 : Index := 0#32
  ![0, v1390.toNat, 41, 0, 0]
def k0_off510 (v1 : BitVec 32) (k0_t34 : Fin (k0_t34_loop v1).trips) (v228 : BitVec 32) (v257 : BitVec 32) (k0_t37 : Fin (k0_t37_loop v228 v257).trips) : Fin 5 → Nat :=
  let c0_851 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1407 : Index := Scalar.indexCast v226
  let c41_852 : Index := 41#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1408 : Index := Scalar.indexCast v382
  let c0_853 : Index := 0#32
  ![0, v1407.toNat, 41, v1408.toNat, 0]
def k0_off511 (v1 : BitVec 32) (k0_t34 : Fin (k0_t34_loop v1).trips) (v228 : BitVec 32) (v257 : BitVec 32) (k0_t37 : Fin (k0_t37_loop v228 v257).trips) : Fin 5 → Nat :=
  let c0_854 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1412 : Index := Scalar.indexCast v226
  let c0_i32_406 : BitVec 32 := 0#32
  let c1_i32_408 : BitVec 32 := 1#32
  let arg19 : BitVec 32 := Scf.iv c0_i32_406 c1_i32_408 k0_t37
  let v1413 : Index := Scalar.indexCast arg19
  let c672 : Index := 672#32
  let c0_855 : Index := 0#32
  ![0, v1412.toNat, v1413.toNat, 672, 0]
def k0_off512 (v330 : BitVec 32) : Fin 5 → Nat :=
  let c0_856 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1417 : Index := Scalar.indexCast v347
  let c42 : Index := 42#32
  let c0_857 : Index := 0#32
  let c0_858 : Index := 0#32
  ![0, v1417.toNat, 42, 0, 0]
def k0_off513 (v1 : BitVec 32) (k0_t34 : Fin (k0_t34_loop v1).trips) (v228 : BitVec 32) (v257 : BitVec 32) (k0_t37 : Fin (k0_t37_loop v228 v257).trips) : Fin 5 → Nat :=
  let c0_861 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1434 : Index := Scalar.indexCast v226
  let c42_862 : Index := 42#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1435 : Index := Scalar.indexCast v382
  let c0_863 : Index := 0#32
  ![0, v1434.toNat, 42, v1435.toNat, 0]
def k0_off514 (v330 : BitVec 32) : Fin 5 → Nat :=
  let c0_864 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1439 : Index := Scalar.indexCast v347
  let c43 : Index := 43#32
  let c0_865 : Index := 0#32
  let c0_866 : Index := 0#32
  ![0, v1439.toNat, 43, 0, 0]
def k0_off515 (v1 : BitVec 32) (k0_t34 : Fin (k0_t34_loop v1).trips) (v228 : BitVec 32) (v257 : BitVec 32) (k0_t37 : Fin (k0_t37_loop v228 v257).trips) : Fin 5 → Nat :=
  let c0_869 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1456 : Index := Scalar.indexCast v226
  let c43_870 : Index := 43#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1457 : Index := Scalar.indexCast v382
  let c0_871 : Index := 0#32
  ![0, v1456.toNat, 43, v1457.toNat, 0]
def k0_off516 (v1 : BitVec 32) (k0_t34 : Fin (k0_t34_loop v1).trips) (v228 : BitVec 32) (v257 : BitVec 32) (k0_t37 : Fin (k0_t37_loop v228 v257).trips) : Fin 5 → Nat :=
  let c0_872 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1461 : Index := Scalar.indexCast v226
  let c0_i32_406 : BitVec 32 := 0#32
  let c1_i32_408 : BitVec 32 := 1#32
  let arg19 : BitVec 32 := Scf.iv c0_i32_406 c1_i32_408 k0_t37
  let v1462 : Index := Scalar.indexCast arg19
  let c704 : Index := 704#32
  let c0_873 : Index := 0#32
  ![0, v1461.toNat, v1462.toNat, 704, 0]
def k0_off517 (v330 : BitVec 32) : Fin 5 → Nat :=
  let c0_874 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1466 : Index := Scalar.indexCast v347
  let c44 : Index := 44#32
  let c0_875 : Index := 0#32
  let c0_876 : Index := 0#32
  ![0, v1466.toNat, 44, 0, 0]
def k0_off518 (v1 : BitVec 32) (k0_t34 : Fin (k0_t34_loop v1).trips) (v228 : BitVec 32) (v257 : BitVec 32) (k0_t37 : Fin (k0_t37_loop v228 v257).trips) : Fin 5 → Nat :=
  let c0_879 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1483 : Index := Scalar.indexCast v226
  let c44_880 : Index := 44#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1484 : Index := Scalar.indexCast v382
  let c0_881 : Index := 0#32
  ![0, v1483.toNat, 44, v1484.toNat, 0]
def k0_off519 (v330 : BitVec 32) : Fin 5 → Nat :=
  let c0_882 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1488 : Index := Scalar.indexCast v347
  let c45 : Index := 45#32
  let c0_883 : Index := 0#32
  let c0_884 : Index := 0#32
  ![0, v1488.toNat, 45, 0, 0]
def k0_off520 (v1 : BitVec 32) (k0_t34 : Fin (k0_t34_loop v1).trips) (v228 : BitVec 32) (v257 : BitVec 32) (k0_t37 : Fin (k0_t37_loop v228 v257).trips) : Fin 5 → Nat :=
  let c0_887 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1505 : Index := Scalar.indexCast v226
  let c45_888 : Index := 45#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1506 : Index := Scalar.indexCast v382
  let c0_889 : Index := 0#32
  ![0, v1505.toNat, 45, v1506.toNat, 0]
def k0_off521 (v1 : BitVec 32) (k0_t34 : Fin (k0_t34_loop v1).trips) (v228 : BitVec 32) (v257 : BitVec 32) (k0_t37 : Fin (k0_t37_loop v228 v257).trips) : Fin 5 → Nat :=
  let c0_890 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1510 : Index := Scalar.indexCast v226
  let c0_i32_406 : BitVec 32 := 0#32
  let c1_i32_408 : BitVec 32 := 1#32
  let arg19 : BitVec 32 := Scf.iv c0_i32_406 c1_i32_408 k0_t37
  let v1511 : Index := Scalar.indexCast arg19
  let c736 : Index := 736#32
  let c0_891 : Index := 0#32
  ![0, v1510.toNat, v1511.toNat, 736, 0]
def k0_off522 (v330 : BitVec 32) : Fin 5 → Nat :=
  let c0_892 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1515 : Index := Scalar.indexCast v347
  let c46 : Index := 46#32
  let c0_893 : Index := 0#32
  let c0_894 : Index := 0#32
  ![0, v1515.toNat, 46, 0, 0]
def k0_off523 (v1 : BitVec 32) (k0_t34 : Fin (k0_t34_loop v1).trips) (v228 : BitVec 32) (v257 : BitVec 32) (k0_t37 : Fin (k0_t37_loop v228 v257).trips) : Fin 5 → Nat :=
  let c0_897 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1532 : Index := Scalar.indexCast v226
  let c46_898 : Index := 46#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1533 : Index := Scalar.indexCast v382
  let c0_899 : Index := 0#32
  ![0, v1532.toNat, 46, v1533.toNat, 0]
def k0_off524 (v330 : BitVec 32) : Fin 5 → Nat :=
  let c0_900 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1537 : Index := Scalar.indexCast v347
  let c47 : Index := 47#32
  let c0_901 : Index := 0#32
  let c0_902 : Index := 0#32
  ![0, v1537.toNat, 47, 0, 0]
def k0_off525 (v1 : BitVec 32) (k0_t34 : Fin (k0_t34_loop v1).trips) (v228 : BitVec 32) (v257 : BitVec 32) (k0_t37 : Fin (k0_t37_loop v228 v257).trips) : Fin 5 → Nat :=
  let c0_905 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1554 : Index := Scalar.indexCast v226
  let c47_906 : Index := 47#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1555 : Index := Scalar.indexCast v382
  let c0_907 : Index := 0#32
  ![0, v1554.toNat, 47, v1555.toNat, 0]
def k0_off526 (v1 : BitVec 32) (k0_t34 : Fin (k0_t34_loop v1).trips) (v228 : BitVec 32) (v257 : BitVec 32) (k0_t37 : Fin (k0_t37_loop v228 v257).trips) : Fin 5 → Nat :=
  let c0_908 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1559 : Index := Scalar.indexCast v226
  let c0_i32_406 : BitVec 32 := 0#32
  let c1_i32_408 : BitVec 32 := 1#32
  let arg19 : BitVec 32 := Scf.iv c0_i32_406 c1_i32_408 k0_t37
  let v1560 : Index := Scalar.indexCast arg19
  let c768 : Index := 768#32
  let c0_909 : Index := 0#32
  ![0, v1559.toNat, v1560.toNat, 768, 0]
def k0_off527 (v330 : BitVec 32) : Fin 5 → Nat :=
  let c0_910 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1564 : Index := Scalar.indexCast v347
  let c48 : Index := 48#32
  let c0_911 : Index := 0#32
  let c0_912 : Index := 0#32
  ![0, v1564.toNat, 48, 0, 0]
def k0_off528 (v1 : BitVec 32) (k0_t34 : Fin (k0_t34_loop v1).trips) (v228 : BitVec 32) (v257 : BitVec 32) (k0_t37 : Fin (k0_t37_loop v228 v257).trips) : Fin 5 → Nat :=
  let c0_915 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1581 : Index := Scalar.indexCast v226
  let c48_916 : Index := 48#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1582 : Index := Scalar.indexCast v382
  let c0_917 : Index := 0#32
  ![0, v1581.toNat, 48, v1582.toNat, 0]
def k0_off529 (v330 : BitVec 32) : Fin 5 → Nat :=
  let c0_918 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1586 : Index := Scalar.indexCast v347
  let c49 : Index := 49#32
  let c0_919 : Index := 0#32
  let c0_920 : Index := 0#32
  ![0, v1586.toNat, 49, 0, 0]
def k0_off530 (v1 : BitVec 32) (k0_t34 : Fin (k0_t34_loop v1).trips) (v228 : BitVec 32) (v257 : BitVec 32) (k0_t37 : Fin (k0_t37_loop v228 v257).trips) : Fin 5 → Nat :=
  let c0_923 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1603 : Index := Scalar.indexCast v226
  let c49_924 : Index := 49#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1604 : Index := Scalar.indexCast v382
  let c0_925 : Index := 0#32
  ![0, v1603.toNat, 49, v1604.toNat, 0]
def k0_off531 (v1 : BitVec 32) (k0_t34 : Fin (k0_t34_loop v1).trips) (v228 : BitVec 32) (v257 : BitVec 32) (k0_t37 : Fin (k0_t37_loop v228 v257).trips) : Fin 5 → Nat :=
  let c0_926 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1608 : Index := Scalar.indexCast v226
  let c0_i32_406 : BitVec 32 := 0#32
  let c1_i32_408 : BitVec 32 := 1#32
  let arg19 : BitVec 32 := Scf.iv c0_i32_406 c1_i32_408 k0_t37
  let v1609 : Index := Scalar.indexCast arg19
  let c800 : Index := 800#32
  let c0_927 : Index := 0#32
  ![0, v1608.toNat, v1609.toNat, 800, 0]
def k0_off532 (v330 : BitVec 32) : Fin 5 → Nat :=
  let c0_928 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1613 : Index := Scalar.indexCast v347
  let c50 : Index := 50#32
  let c0_929 : Index := 0#32
  let c0_930 : Index := 0#32
  ![0, v1613.toNat, 50, 0, 0]
def k0_off533 (v1 : BitVec 32) (k0_t34 : Fin (k0_t34_loop v1).trips) (v228 : BitVec 32) (v257 : BitVec 32) (k0_t37 : Fin (k0_t37_loop v228 v257).trips) : Fin 5 → Nat :=
  let c0_933 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1630 : Index := Scalar.indexCast v226
  let c50_934 : Index := 50#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1631 : Index := Scalar.indexCast v382
  let c0_935 : Index := 0#32
  ![0, v1630.toNat, 50, v1631.toNat, 0]
def k0_off534 (v330 : BitVec 32) : Fin 5 → Nat :=
  let c0_936 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1635 : Index := Scalar.indexCast v347
  let c51 : Index := 51#32
  let c0_937 : Index := 0#32
  let c0_938 : Index := 0#32
  ![0, v1635.toNat, 51, 0, 0]
def k0_off535 (v1 : BitVec 32) (k0_t34 : Fin (k0_t34_loop v1).trips) (v228 : BitVec 32) (v257 : BitVec 32) (k0_t37 : Fin (k0_t37_loop v228 v257).trips) : Fin 5 → Nat :=
  let c0_941 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1652 : Index := Scalar.indexCast v226
  let c51_942 : Index := 51#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1653 : Index := Scalar.indexCast v382
  let c0_943 : Index := 0#32
  ![0, v1652.toNat, 51, v1653.toNat, 0]
def k0_off536 (v1 : BitVec 32) (k0_t34 : Fin (k0_t34_loop v1).trips) (v228 : BitVec 32) (v257 : BitVec 32) (k0_t37 : Fin (k0_t37_loop v228 v257).trips) : Fin 5 → Nat :=
  let c0_944 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1657 : Index := Scalar.indexCast v226
  let c0_i32_406 : BitVec 32 := 0#32
  let c1_i32_408 : BitVec 32 := 1#32
  let arg19 : BitVec 32 := Scf.iv c0_i32_406 c1_i32_408 k0_t37
  let v1658 : Index := Scalar.indexCast arg19
  let c832 : Index := 832#32
  let c0_945 : Index := 0#32
  ![0, v1657.toNat, v1658.toNat, 832, 0]
def k0_off537 (v330 : BitVec 32) : Fin 5 → Nat :=
  let c0_946 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1662 : Index := Scalar.indexCast v347
  let c52 : Index := 52#32
  let c0_947 : Index := 0#32
  let c0_948 : Index := 0#32
  ![0, v1662.toNat, 52, 0, 0]
def k0_off538 (v1 : BitVec 32) (k0_t34 : Fin (k0_t34_loop v1).trips) (v228 : BitVec 32) (v257 : BitVec 32) (k0_t37 : Fin (k0_t37_loop v228 v257).trips) : Fin 5 → Nat :=
  let c0_951 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1679 : Index := Scalar.indexCast v226
  let c52_952 : Index := 52#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1680 : Index := Scalar.indexCast v382
  let c0_953 : Index := 0#32
  ![0, v1679.toNat, 52, v1680.toNat, 0]
def k0_off539 (v330 : BitVec 32) : Fin 5 → Nat :=
  let c0_954 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1684 : Index := Scalar.indexCast v347
  let c53 : Index := 53#32
  let c0_955 : Index := 0#32
  let c0_956 : Index := 0#32
  ![0, v1684.toNat, 53, 0, 0]
def k0_off540 (v1 : BitVec 32) (k0_t34 : Fin (k0_t34_loop v1).trips) (v228 : BitVec 32) (v257 : BitVec 32) (k0_t37 : Fin (k0_t37_loop v228 v257).trips) : Fin 5 → Nat :=
  let c0_959 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1701 : Index := Scalar.indexCast v226
  let c53_960 : Index := 53#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1702 : Index := Scalar.indexCast v382
  let c0_961 : Index := 0#32
  ![0, v1701.toNat, 53, v1702.toNat, 0]
def k0_off541 (v1 : BitVec 32) (k0_t34 : Fin (k0_t34_loop v1).trips) (v228 : BitVec 32) (v257 : BitVec 32) (k0_t37 : Fin (k0_t37_loop v228 v257).trips) : Fin 5 → Nat :=
  let c0_962 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1706 : Index := Scalar.indexCast v226
  let c0_i32_406 : BitVec 32 := 0#32
  let c1_i32_408 : BitVec 32 := 1#32
  let arg19 : BitVec 32 := Scf.iv c0_i32_406 c1_i32_408 k0_t37
  let v1707 : Index := Scalar.indexCast arg19
  let c864 : Index := 864#32
  let c0_963 : Index := 0#32
  ![0, v1706.toNat, v1707.toNat, 864, 0]
def k0_off542 (v330 : BitVec 32) : Fin 5 → Nat :=
  let c0_964 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1711 : Index := Scalar.indexCast v347
  let c54 : Index := 54#32
  let c0_965 : Index := 0#32
  let c0_966 : Index := 0#32
  ![0, v1711.toNat, 54, 0, 0]
def k0_off543 (v1 : BitVec 32) (k0_t34 : Fin (k0_t34_loop v1).trips) (v228 : BitVec 32) (v257 : BitVec 32) (k0_t37 : Fin (k0_t37_loop v228 v257).trips) : Fin 5 → Nat :=
  let c0_969 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1728 : Index := Scalar.indexCast v226
  let c54_970 : Index := 54#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1729 : Index := Scalar.indexCast v382
  let c0_971 : Index := 0#32
  ![0, v1728.toNat, 54, v1729.toNat, 0]
def k0_off544 (v330 : BitVec 32) : Fin 5 → Nat :=
  let c0_972 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1733 : Index := Scalar.indexCast v347
  let c55 : Index := 55#32
  let c0_973 : Index := 0#32
  let c0_974 : Index := 0#32
  ![0, v1733.toNat, 55, 0, 0]
def k0_off545 (v1 : BitVec 32) (k0_t34 : Fin (k0_t34_loop v1).trips) (v228 : BitVec 32) (v257 : BitVec 32) (k0_t37 : Fin (k0_t37_loop v228 v257).trips) : Fin 5 → Nat :=
  let c0_977 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1750 : Index := Scalar.indexCast v226
  let c55_978 : Index := 55#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1751 : Index := Scalar.indexCast v382
  let c0_979 : Index := 0#32
  ![0, v1750.toNat, 55, v1751.toNat, 0]
def k0_off546 (v1 : BitVec 32) (k0_t34 : Fin (k0_t34_loop v1).trips) (v228 : BitVec 32) (v257 : BitVec 32) (k0_t37 : Fin (k0_t37_loop v228 v257).trips) : Fin 5 → Nat :=
  let c0_980 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1755 : Index := Scalar.indexCast v226
  let c0_i32_406 : BitVec 32 := 0#32
  let c1_i32_408 : BitVec 32 := 1#32
  let arg19 : BitVec 32 := Scf.iv c0_i32_406 c1_i32_408 k0_t37
  let v1756 : Index := Scalar.indexCast arg19
  let c896 : Index := 896#32
  let c0_981 : Index := 0#32
  ![0, v1755.toNat, v1756.toNat, 896, 0]
def k0_off547 (v330 : BitVec 32) : Fin 5 → Nat :=
  let c0_982 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1760 : Index := Scalar.indexCast v347
  let c56 : Index := 56#32
  let c0_983 : Index := 0#32
  let c0_984 : Index := 0#32
  ![0, v1760.toNat, 56, 0, 0]
def k0_off548 (v1 : BitVec 32) (k0_t34 : Fin (k0_t34_loop v1).trips) (v228 : BitVec 32) (v257 : BitVec 32) (k0_t37 : Fin (k0_t37_loop v228 v257).trips) : Fin 5 → Nat :=
  let c0_987 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1777 : Index := Scalar.indexCast v226
  let c56_988 : Index := 56#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1778 : Index := Scalar.indexCast v382
  let c0_989 : Index := 0#32
  ![0, v1777.toNat, 56, v1778.toNat, 0]
def k0_off549 (v330 : BitVec 32) : Fin 5 → Nat :=
  let c0_990 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1782 : Index := Scalar.indexCast v347
  let c57 : Index := 57#32
  let c0_991 : Index := 0#32
  let c0_992 : Index := 0#32
  ![0, v1782.toNat, 57, 0, 0]
def k0_off550 (v1 : BitVec 32) (k0_t34 : Fin (k0_t34_loop v1).trips) (v228 : BitVec 32) (v257 : BitVec 32) (k0_t37 : Fin (k0_t37_loop v228 v257).trips) : Fin 5 → Nat :=
  let c0_995 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1799 : Index := Scalar.indexCast v226
  let c57_996 : Index := 57#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1800 : Index := Scalar.indexCast v382
  let c0_997 : Index := 0#32
  ![0, v1799.toNat, 57, v1800.toNat, 0]
def k0_off551 (v1 : BitVec 32) (k0_t34 : Fin (k0_t34_loop v1).trips) (v228 : BitVec 32) (v257 : BitVec 32) (k0_t37 : Fin (k0_t37_loop v228 v257).trips) : Fin 5 → Nat :=
  let c0_998 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1804 : Index := Scalar.indexCast v226
  let c0_i32_406 : BitVec 32 := 0#32
  let c1_i32_408 : BitVec 32 := 1#32
  let arg19 : BitVec 32 := Scf.iv c0_i32_406 c1_i32_408 k0_t37
  let v1805 : Index := Scalar.indexCast arg19
  let c928 : Index := 928#32
  let c0_999 : Index := 0#32
  ![0, v1804.toNat, v1805.toNat, 928, 0]
def k0_off552 (v330 : BitVec 32) : Fin 5 → Nat :=
  let c0_1000 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1809 : Index := Scalar.indexCast v347
  let c58 : Index := 58#32
  let c0_1001 : Index := 0#32
  let c0_1002 : Index := 0#32
  ![0, v1809.toNat, 58, 0, 0]
def k0_off553 (v1 : BitVec 32) (k0_t34 : Fin (k0_t34_loop v1).trips) (v228 : BitVec 32) (v257 : BitVec 32) (k0_t37 : Fin (k0_t37_loop v228 v257).trips) : Fin 5 → Nat :=
  let c0_1005 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1826 : Index := Scalar.indexCast v226
  let c58_1006 : Index := 58#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1827 : Index := Scalar.indexCast v382
  let c0_1007 : Index := 0#32
  ![0, v1826.toNat, 58, v1827.toNat, 0]
def k0_off554 (v330 : BitVec 32) : Fin 5 → Nat :=
  let c0_1008 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1831 : Index := Scalar.indexCast v347
  let c59 : Index := 59#32
  let c0_1009 : Index := 0#32
  let c0_1010 : Index := 0#32
  ![0, v1831.toNat, 59, 0, 0]
def k0_off555 (v1 : BitVec 32) (k0_t34 : Fin (k0_t34_loop v1).trips) (v228 : BitVec 32) (v257 : BitVec 32) (k0_t37 : Fin (k0_t37_loop v228 v257).trips) : Fin 5 → Nat :=
  let c0_1013 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1848 : Index := Scalar.indexCast v226
  let c59_1014 : Index := 59#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1849 : Index := Scalar.indexCast v382
  let c0_1015 : Index := 0#32
  ![0, v1848.toNat, 59, v1849.toNat, 0]
def k0_off556 (v1 : BitVec 32) (k0_t34 : Fin (k0_t34_loop v1).trips) (v228 : BitVec 32) (v257 : BitVec 32) (k0_t37 : Fin (k0_t37_loop v228 v257).trips) : Fin 5 → Nat :=
  let c0_1016 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1853 : Index := Scalar.indexCast v226
  let c0_i32_406 : BitVec 32 := 0#32
  let c1_i32_408 : BitVec 32 := 1#32
  let arg19 : BitVec 32 := Scf.iv c0_i32_406 c1_i32_408 k0_t37
  let v1854 : Index := Scalar.indexCast arg19
  let c960 : Index := 960#32
  let c0_1017 : Index := 0#32
  ![0, v1853.toNat, v1854.toNat, 960, 0]
def k0_off557 (v330 : BitVec 32) : Fin 5 → Nat :=
  let c0_1018 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1858 : Index := Scalar.indexCast v347
  let c60 : Index := 60#32
  let c0_1019 : Index := 0#32
  let c0_1020 : Index := 0#32
  ![0, v1858.toNat, 60, 0, 0]
def k0_off558 (v1 : BitVec 32) (k0_t34 : Fin (k0_t34_loop v1).trips) (v228 : BitVec 32) (v257 : BitVec 32) (k0_t37 : Fin (k0_t37_loop v228 v257).trips) : Fin 5 → Nat :=
  let c0_1023 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1875 : Index := Scalar.indexCast v226
  let c60_1024 : Index := 60#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1876 : Index := Scalar.indexCast v382
  let c0_1025 : Index := 0#32
  ![0, v1875.toNat, 60, v1876.toNat, 0]
def k0_off559 (v330 : BitVec 32) : Fin 5 → Nat :=
  let c0_1026 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1880 : Index := Scalar.indexCast v347
  let c61 : Index := 61#32
  let c0_1027 : Index := 0#32
  let c0_1028 : Index := 0#32
  ![0, v1880.toNat, 61, 0, 0]
def k0_off560 (v1 : BitVec 32) (k0_t34 : Fin (k0_t34_loop v1).trips) (v228 : BitVec 32) (v257 : BitVec 32) (k0_t37 : Fin (k0_t37_loop v228 v257).trips) : Fin 5 → Nat :=
  let c0_1031 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1897 : Index := Scalar.indexCast v226
  let c61_1032 : Index := 61#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1898 : Index := Scalar.indexCast v382
  let c0_1033 : Index := 0#32
  ![0, v1897.toNat, 61, v1898.toNat, 0]
def k0_off561 (v1 : BitVec 32) (k0_t34 : Fin (k0_t34_loop v1).trips) (v228 : BitVec 32) (v257 : BitVec 32) (k0_t37 : Fin (k0_t37_loop v228 v257).trips) : Fin 5 → Nat :=
  let c0_1034 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1902 : Index := Scalar.indexCast v226
  let c0_i32_406 : BitVec 32 := 0#32
  let c1_i32_408 : BitVec 32 := 1#32
  let arg19 : BitVec 32 := Scf.iv c0_i32_406 c1_i32_408 k0_t37
  let v1903 : Index := Scalar.indexCast arg19
  let c992 : Index := 992#32
  let c0_1035 : Index := 0#32
  ![0, v1902.toNat, v1903.toNat, 992, 0]
def k0_off562 (v330 : BitVec 32) : Fin 5 → Nat :=
  let c0_1036 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1907 : Index := Scalar.indexCast v347
  let c62 : Index := 62#32
  let c0_1037 : Index := 0#32
  let c0_1038 : Index := 0#32
  ![0, v1907.toNat, 62, 0, 0]
def k0_off563 (v1 : BitVec 32) (k0_t34 : Fin (k0_t34_loop v1).trips) (v228 : BitVec 32) (v257 : BitVec 32) (k0_t37 : Fin (k0_t37_loop v228 v257).trips) : Fin 5 → Nat :=
  let c0_1041 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1924 : Index := Scalar.indexCast v226
  let c62_1042 : Index := 62#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1925 : Index := Scalar.indexCast v382
  let c0_1043 : Index := 0#32
  ![0, v1924.toNat, 62, v1925.toNat, 0]
def k0_off564 (v330 : BitVec 32) : Fin 5 → Nat :=
  let c0_1044 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1929 : Index := Scalar.indexCast v347
  let c63 : Index := 63#32
  let c0_1045 : Index := 0#32
  let c0_1046 : Index := 0#32
  ![0, v1929.toNat, 63, 0, 0]
def k0_off565 (v1 : BitVec 32) (k0_t34 : Fin (k0_t34_loop v1).trips) (v228 : BitVec 32) (v257 : BitVec 32) (k0_t37 : Fin (k0_t37_loop v228 v257).trips) : Fin 5 → Nat :=
  let c0_1049 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1946 : Index := Scalar.indexCast v226
  let c63_1050 : Index := 63#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1947 : Index := Scalar.indexCast v382
  let c0_1051 : Index := 0#32
  ![0, v1946.toNat, 63, v1947.toNat, 0]
def k0_off566 (v1 : BitVec 32) (k0_t34 : Fin (k0_t34_loop v1).trips) (v228 : BitVec 32) (v257 : BitVec 32) (k0_t37 : Fin (k0_t37_loop v228 v257).trips) : Fin 5 → Nat :=
  let c0_1052 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1951 : Index := Scalar.indexCast v226
  let c0_i32_406 : BitVec 32 := 0#32
  let c1_i32_408 : BitVec 32 := 1#32
  let arg19 : BitVec 32 := Scf.iv c0_i32_406 c1_i32_408 k0_t37
  let v1952 : Index := Scalar.indexCast arg19
  let c1024 : Index := 1024#32
  let c0_1053 : Index := 0#32
  ![0, v1951.toNat, v1952.toNat, 1024, 0]
def k0_off567 (v330 : BitVec 32) : Fin 5 → Nat :=
  let c0_1054 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1956 : Index := Scalar.indexCast v347
  let c64_1055 : Index := 64#32
  let c0_1056 : Index := 0#32
  let c0_1057 : Index := 0#32
  ![0, v1956.toNat, 64, 0, 0]
def k0_off568 (v1 : BitVec 32) (k0_t34 : Fin (k0_t34_loop v1).trips) (v228 : BitVec 32) (v257 : BitVec 32) (k0_t37 : Fin (k0_t37_loop v228 v257).trips) : Fin 5 → Nat :=
  let c0_1060 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1973 : Index := Scalar.indexCast v226
  let c64_1061 : Index := 64#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1974 : Index := Scalar.indexCast v382
  let c0_1062 : Index := 0#32
  ![0, v1973.toNat, 64, v1974.toNat, 0]
def k0_off569 (v330 : BitVec 32) : Fin 5 → Nat :=
  let c0_1063 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1978 : Index := Scalar.indexCast v347
  let c65 : Index := 65#32
  let c0_1064 : Index := 0#32
  let c0_1065 : Index := 0#32
  ![0, v1978.toNat, 65, 0, 0]
def k0_off570 (v1 : BitVec 32) (k0_t34 : Fin (k0_t34_loop v1).trips) (v228 : BitVec 32) (v257 : BitVec 32) (k0_t37 : Fin (k0_t37_loop v228 v257).trips) : Fin 5 → Nat :=
  let c0_1068 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1995 : Index := Scalar.indexCast v226
  let c65_1069 : Index := 65#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v1996 : Index := Scalar.indexCast v382
  let c0_1070 : Index := 0#32
  ![0, v1995.toNat, 65, v1996.toNat, 0]
def k0_off571 (v1 : BitVec 32) (k0_t34 : Fin (k0_t34_loop v1).trips) (v228 : BitVec 32) (v257 : BitVec 32) (k0_t37 : Fin (k0_t37_loop v228 v257).trips) : Fin 5 → Nat :=
  let c0_1071 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2000 : Index := Scalar.indexCast v226
  let c0_i32_406 : BitVec 32 := 0#32
  let c1_i32_408 : BitVec 32 := 1#32
  let arg19 : BitVec 32 := Scf.iv c0_i32_406 c1_i32_408 k0_t37
  let v2001 : Index := Scalar.indexCast arg19
  let c1056 : Index := 1056#32
  let c0_1072 : Index := 0#32
  ![0, v2000.toNat, v2001.toNat, 1056, 0]
def k0_off572 (v330 : BitVec 32) : Fin 5 → Nat :=
  let c0_1073 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2005 : Index := Scalar.indexCast v347
  let c66 : Index := 66#32
  let c0_1074 : Index := 0#32
  let c0_1075 : Index := 0#32
  ![0, v2005.toNat, 66, 0, 0]
def k0_off573 (v1 : BitVec 32) (k0_t34 : Fin (k0_t34_loop v1).trips) (v228 : BitVec 32) (v257 : BitVec 32) (k0_t37 : Fin (k0_t37_loop v228 v257).trips) : Fin 5 → Nat :=
  let c0_1078 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2022 : Index := Scalar.indexCast v226
  let c66_1079 : Index := 66#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2023 : Index := Scalar.indexCast v382
  let c0_1080 : Index := 0#32
  ![0, v2022.toNat, 66, v2023.toNat, 0]
def k0_off574 (v330 : BitVec 32) : Fin 5 → Nat :=
  let c0_1081 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2027 : Index := Scalar.indexCast v347
  let c67 : Index := 67#32
  let c0_1082 : Index := 0#32
  let c0_1083 : Index := 0#32
  ![0, v2027.toNat, 67, 0, 0]
def k0_off575 (v1 : BitVec 32) (k0_t34 : Fin (k0_t34_loop v1).trips) (v228 : BitVec 32) (v257 : BitVec 32) (k0_t37 : Fin (k0_t37_loop v228 v257).trips) : Fin 5 → Nat :=
  let c0_1086 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2044 : Index := Scalar.indexCast v226
  let c67_1087 : Index := 67#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2045 : Index := Scalar.indexCast v382
  let c0_1088 : Index := 0#32
  ![0, v2044.toNat, 67, v2045.toNat, 0]
def k0_off576 (v1 : BitVec 32) (k0_t34 : Fin (k0_t34_loop v1).trips) (v228 : BitVec 32) (v257 : BitVec 32) (k0_t37 : Fin (k0_t37_loop v228 v257).trips) : Fin 5 → Nat :=
  let c0_1089 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2049 : Index := Scalar.indexCast v226
  let c0_i32_406 : BitVec 32 := 0#32
  let c1_i32_408 : BitVec 32 := 1#32
  let arg19 : BitVec 32 := Scf.iv c0_i32_406 c1_i32_408 k0_t37
  let v2050 : Index := Scalar.indexCast arg19
  let c1088 : Index := 1088#32
  let c0_1090 : Index := 0#32
  ![0, v2049.toNat, v2050.toNat, 1088, 0]
def k0_off577 (v330 : BitVec 32) : Fin 5 → Nat :=
  let c0_1091 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2054 : Index := Scalar.indexCast v347
  let c68 : Index := 68#32
  let c0_1092 : Index := 0#32
  let c0_1093 : Index := 0#32
  ![0, v2054.toNat, 68, 0, 0]
def k0_off578 (v1 : BitVec 32) (k0_t34 : Fin (k0_t34_loop v1).trips) (v228 : BitVec 32) (v257 : BitVec 32) (k0_t37 : Fin (k0_t37_loop v228 v257).trips) : Fin 5 → Nat :=
  let c0_1096 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2071 : Index := Scalar.indexCast v226
  let c68_1097 : Index := 68#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2072 : Index := Scalar.indexCast v382
  let c0_1098 : Index := 0#32
  ![0, v2071.toNat, 68, v2072.toNat, 0]
def k0_off579 (v330 : BitVec 32) : Fin 5 → Nat :=
  let c0_1099 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2076 : Index := Scalar.indexCast v347
  let c69 : Index := 69#32
  let c0_1100 : Index := 0#32
  let c0_1101 : Index := 0#32
  ![0, v2076.toNat, 69, 0, 0]
def k0_off580 (v1 : BitVec 32) (k0_t34 : Fin (k0_t34_loop v1).trips) (v228 : BitVec 32) (v257 : BitVec 32) (k0_t37 : Fin (k0_t37_loop v228 v257).trips) : Fin 5 → Nat :=
  let c0_1104 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2093 : Index := Scalar.indexCast v226
  let c69_1105 : Index := 69#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2094 : Index := Scalar.indexCast v382
  let c0_1106 : Index := 0#32
  ![0, v2093.toNat, 69, v2094.toNat, 0]
def k0_off581 (v1 : BitVec 32) (k0_t34 : Fin (k0_t34_loop v1).trips) (v228 : BitVec 32) (v257 : BitVec 32) (k0_t37 : Fin (k0_t37_loop v228 v257).trips) : Fin 5 → Nat :=
  let c0_1107 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2098 : Index := Scalar.indexCast v226
  let c0_i32_406 : BitVec 32 := 0#32
  let c1_i32_408 : BitVec 32 := 1#32
  let arg19 : BitVec 32 := Scf.iv c0_i32_406 c1_i32_408 k0_t37
  let v2099 : Index := Scalar.indexCast arg19
  let c1120 : Index := 1120#32
  let c0_1108 : Index := 0#32
  ![0, v2098.toNat, v2099.toNat, 1120, 0]
def k0_off582 (v330 : BitVec 32) : Fin 5 → Nat :=
  let c0_1109 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2103 : Index := Scalar.indexCast v347
  let c70 : Index := 70#32
  let c0_1110 : Index := 0#32
  let c0_1111 : Index := 0#32
  ![0, v2103.toNat, 70, 0, 0]
def k0_off583 (v1 : BitVec 32) (k0_t34 : Fin (k0_t34_loop v1).trips) (v228 : BitVec 32) (v257 : BitVec 32) (k0_t37 : Fin (k0_t37_loop v228 v257).trips) : Fin 5 → Nat :=
  let c0_1114 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2120 : Index := Scalar.indexCast v226
  let c70_1115 : Index := 70#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2121 : Index := Scalar.indexCast v382
  let c0_1116 : Index := 0#32
  ![0, v2120.toNat, 70, v2121.toNat, 0]
def k0_off584 (v330 : BitVec 32) : Fin 5 → Nat :=
  let c0_1117 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2125 : Index := Scalar.indexCast v347
  let c71 : Index := 71#32
  let c0_1118 : Index := 0#32
  let c0_1119 : Index := 0#32
  ![0, v2125.toNat, 71, 0, 0]
def k0_off585 (v1 : BitVec 32) (k0_t34 : Fin (k0_t34_loop v1).trips) (v228 : BitVec 32) (v257 : BitVec 32) (k0_t37 : Fin (k0_t37_loop v228 v257).trips) : Fin 5 → Nat :=
  let c0_1122 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2142 : Index := Scalar.indexCast v226
  let c71_1123 : Index := 71#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2143 : Index := Scalar.indexCast v382
  let c0_1124 : Index := 0#32
  ![0, v2142.toNat, 71, v2143.toNat, 0]
def k0_off586 (v1 : BitVec 32) (k0_t34 : Fin (k0_t34_loop v1).trips) (v228 : BitVec 32) (v257 : BitVec 32) (k0_t37 : Fin (k0_t37_loop v228 v257).trips) : Fin 5 → Nat :=
  let c0_1125 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2147 : Index := Scalar.indexCast v226
  let c0_i32_406 : BitVec 32 := 0#32
  let c1_i32_408 : BitVec 32 := 1#32
  let arg19 : BitVec 32 := Scf.iv c0_i32_406 c1_i32_408 k0_t37
  let v2148 : Index := Scalar.indexCast arg19
  let c1152 : Index := 1152#32
  let c0_1126 : Index := 0#32
  ![0, v2147.toNat, v2148.toNat, 1152, 0]
def k0_off587 (v330 : BitVec 32) : Fin 5 → Nat :=
  let c0_1127 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2152 : Index := Scalar.indexCast v347
  let c72 : Index := 72#32
  let c0_1128 : Index := 0#32
  let c0_1129 : Index := 0#32
  ![0, v2152.toNat, 72, 0, 0]
def k0_off588 (v1 : BitVec 32) (k0_t34 : Fin (k0_t34_loop v1).trips) (v228 : BitVec 32) (v257 : BitVec 32) (k0_t37 : Fin (k0_t37_loop v228 v257).trips) : Fin 5 → Nat :=
  let c0_1132 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2169 : Index := Scalar.indexCast v226
  let c72_1133 : Index := 72#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2170 : Index := Scalar.indexCast v382
  let c0_1134 : Index := 0#32
  ![0, v2169.toNat, 72, v2170.toNat, 0]
def k0_off589 (v330 : BitVec 32) : Fin 5 → Nat :=
  let c0_1135 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2174 : Index := Scalar.indexCast v347
  let c73 : Index := 73#32
  let c0_1136 : Index := 0#32
  let c0_1137 : Index := 0#32
  ![0, v2174.toNat, 73, 0, 0]
def k0_off590 (v1 : BitVec 32) (k0_t34 : Fin (k0_t34_loop v1).trips) (v228 : BitVec 32) (v257 : BitVec 32) (k0_t37 : Fin (k0_t37_loop v228 v257).trips) : Fin 5 → Nat :=
  let c0_1140 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2191 : Index := Scalar.indexCast v226
  let c73_1141 : Index := 73#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2192 : Index := Scalar.indexCast v382
  let c0_1142 : Index := 0#32
  ![0, v2191.toNat, 73, v2192.toNat, 0]
def k0_off591 (v1 : BitVec 32) (k0_t34 : Fin (k0_t34_loop v1).trips) (v228 : BitVec 32) (v257 : BitVec 32) (k0_t37 : Fin (k0_t37_loop v228 v257).trips) : Fin 5 → Nat :=
  let c0_1143 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2196 : Index := Scalar.indexCast v226
  let c0_i32_406 : BitVec 32 := 0#32
  let c1_i32_408 : BitVec 32 := 1#32
  let arg19 : BitVec 32 := Scf.iv c0_i32_406 c1_i32_408 k0_t37
  let v2197 : Index := Scalar.indexCast arg19
  let c1184 : Index := 1184#32
  let c0_1144 : Index := 0#32
  ![0, v2196.toNat, v2197.toNat, 1184, 0]
def k0_off592 (v330 : BitVec 32) : Fin 5 → Nat :=
  let c0_1145 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2201 : Index := Scalar.indexCast v347
  let c74 : Index := 74#32
  let c0_1146 : Index := 0#32
  let c0_1147 : Index := 0#32
  ![0, v2201.toNat, 74, 0, 0]
def k0_off593 (v1 : BitVec 32) (k0_t34 : Fin (k0_t34_loop v1).trips) (v228 : BitVec 32) (v257 : BitVec 32) (k0_t37 : Fin (k0_t37_loop v228 v257).trips) : Fin 5 → Nat :=
  let c0_1150 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2218 : Index := Scalar.indexCast v226
  let c74_1151 : Index := 74#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2219 : Index := Scalar.indexCast v382
  let c0_1152 : Index := 0#32
  ![0, v2218.toNat, 74, v2219.toNat, 0]
def k0_off594 (v330 : BitVec 32) : Fin 5 → Nat :=
  let c0_1153 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2223 : Index := Scalar.indexCast v347
  let c75 : Index := 75#32
  let c0_1154 : Index := 0#32
  let c0_1155 : Index := 0#32
  ![0, v2223.toNat, 75, 0, 0]
def k0_off595 (v1 : BitVec 32) (k0_t34 : Fin (k0_t34_loop v1).trips) (v228 : BitVec 32) (v257 : BitVec 32) (k0_t37 : Fin (k0_t37_loop v228 v257).trips) : Fin 5 → Nat :=
  let c0_1158 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2240 : Index := Scalar.indexCast v226
  let c75_1159 : Index := 75#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2241 : Index := Scalar.indexCast v382
  let c0_1160 : Index := 0#32
  ![0, v2240.toNat, 75, v2241.toNat, 0]
def k0_off596 (v1 : BitVec 32) (k0_t34 : Fin (k0_t34_loop v1).trips) (v228 : BitVec 32) (v257 : BitVec 32) (k0_t37 : Fin (k0_t37_loop v228 v257).trips) : Fin 5 → Nat :=
  let c0_1161 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2245 : Index := Scalar.indexCast v226
  let c0_i32_406 : BitVec 32 := 0#32
  let c1_i32_408 : BitVec 32 := 1#32
  let arg19 : BitVec 32 := Scf.iv c0_i32_406 c1_i32_408 k0_t37
  let v2246 : Index := Scalar.indexCast arg19
  let c1216 : Index := 1216#32
  let c0_1162 : Index := 0#32
  ![0, v2245.toNat, v2246.toNat, 1216, 0]
def k0_off597 (v330 : BitVec 32) : Fin 5 → Nat :=
  let c0_1163 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2250 : Index := Scalar.indexCast v347
  let c76 : Index := 76#32
  let c0_1164 : Index := 0#32
  let c0_1165 : Index := 0#32
  ![0, v2250.toNat, 76, 0, 0]
def k0_off598 (v1 : BitVec 32) (k0_t34 : Fin (k0_t34_loop v1).trips) (v228 : BitVec 32) (v257 : BitVec 32) (k0_t37 : Fin (k0_t37_loop v228 v257).trips) : Fin 5 → Nat :=
  let c0_1168 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2267 : Index := Scalar.indexCast v226
  let c76_1169 : Index := 76#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2268 : Index := Scalar.indexCast v382
  let c0_1170 : Index := 0#32
  ![0, v2267.toNat, 76, v2268.toNat, 0]
def k0_off599 (v330 : BitVec 32) : Fin 5 → Nat :=
  let c0_1171 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2272 : Index := Scalar.indexCast v347
  let c77 : Index := 77#32
  let c0_1172 : Index := 0#32
  let c0_1173 : Index := 0#32
  ![0, v2272.toNat, 77, 0, 0]
def k0_off600 (v1 : BitVec 32) (k0_t34 : Fin (k0_t34_loop v1).trips) (v228 : BitVec 32) (v257 : BitVec 32) (k0_t37 : Fin (k0_t37_loop v228 v257).trips) : Fin 5 → Nat :=
  let c0_1176 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2289 : Index := Scalar.indexCast v226
  let c77_1177 : Index := 77#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2290 : Index := Scalar.indexCast v382
  let c0_1178 : Index := 0#32
  ![0, v2289.toNat, 77, v2290.toNat, 0]
def k0_off601 (v1 : BitVec 32) (k0_t34 : Fin (k0_t34_loop v1).trips) (v228 : BitVec 32) (v257 : BitVec 32) (k0_t37 : Fin (k0_t37_loop v228 v257).trips) : Fin 5 → Nat :=
  let c0_1179 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2294 : Index := Scalar.indexCast v226
  let c0_i32_406 : BitVec 32 := 0#32
  let c1_i32_408 : BitVec 32 := 1#32
  let arg19 : BitVec 32 := Scf.iv c0_i32_406 c1_i32_408 k0_t37
  let v2295 : Index := Scalar.indexCast arg19
  let c1248 : Index := 1248#32
  let c0_1180 : Index := 0#32
  ![0, v2294.toNat, v2295.toNat, 1248, 0]
def k0_off602 (v330 : BitVec 32) : Fin 5 → Nat :=
  let c0_1181 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2299 : Index := Scalar.indexCast v347
  let c78 : Index := 78#32
  let c0_1182 : Index := 0#32
  let c0_1183 : Index := 0#32
  ![0, v2299.toNat, 78, 0, 0]
def k0_off603 (v1 : BitVec 32) (k0_t34 : Fin (k0_t34_loop v1).trips) (v228 : BitVec 32) (v257 : BitVec 32) (k0_t37 : Fin (k0_t37_loop v228 v257).trips) : Fin 5 → Nat :=
  let c0_1186 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2316 : Index := Scalar.indexCast v226
  let c78_1187 : Index := 78#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2317 : Index := Scalar.indexCast v382
  let c0_1188 : Index := 0#32
  ![0, v2316.toNat, 78, v2317.toNat, 0]
def k0_off604 (v330 : BitVec 32) : Fin 5 → Nat :=
  let c0_1189 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2321 : Index := Scalar.indexCast v347
  let c79 : Index := 79#32
  let c0_1190 : Index := 0#32
  let c0_1191 : Index := 0#32
  ![0, v2321.toNat, 79, 0, 0]
def k0_off605 (v1 : BitVec 32) (k0_t34 : Fin (k0_t34_loop v1).trips) (v228 : BitVec 32) (v257 : BitVec 32) (k0_t37 : Fin (k0_t37_loop v228 v257).trips) : Fin 5 → Nat :=
  let c0_1194 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2338 : Index := Scalar.indexCast v226
  let c79_1195 : Index := 79#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2339 : Index := Scalar.indexCast v382
  let c0_1196 : Index := 0#32
  ![0, v2338.toNat, 79, v2339.toNat, 0]
def k0_off606 (v1 : BitVec 32) (k0_t34 : Fin (k0_t34_loop v1).trips) (v228 : BitVec 32) (v257 : BitVec 32) (k0_t37 : Fin (k0_t37_loop v228 v257).trips) : Fin 5 → Nat :=
  let c0_1197 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2343 : Index := Scalar.indexCast v226
  let c0_i32_406 : BitVec 32 := 0#32
  let c1_i32_408 : BitVec 32 := 1#32
  let arg19 : BitVec 32 := Scf.iv c0_i32_406 c1_i32_408 k0_t37
  let v2344 : Index := Scalar.indexCast arg19
  let c1280 : Index := 1280#32
  let c0_1198 : Index := 0#32
  ![0, v2343.toNat, v2344.toNat, 1280, 0]
def k0_off607 (v330 : BitVec 32) : Fin 5 → Nat :=
  let c0_1199 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2348 : Index := Scalar.indexCast v347
  let c80 : Index := 80#32
  let c0_1200 : Index := 0#32
  let c0_1201 : Index := 0#32
  ![0, v2348.toNat, 80, 0, 0]
def k0_off608 (v1 : BitVec 32) (k0_t34 : Fin (k0_t34_loop v1).trips) (v228 : BitVec 32) (v257 : BitVec 32) (k0_t37 : Fin (k0_t37_loop v228 v257).trips) : Fin 5 → Nat :=
  let c0_1204 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2365 : Index := Scalar.indexCast v226
  let c80_1205 : Index := 80#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2366 : Index := Scalar.indexCast v382
  let c0_1206 : Index := 0#32
  ![0, v2365.toNat, 80, v2366.toNat, 0]
def k0_off609 (v330 : BitVec 32) : Fin 5 → Nat :=
  let c0_1207 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2370 : Index := Scalar.indexCast v347
  let c81 : Index := 81#32
  let c0_1208 : Index := 0#32
  let c0_1209 : Index := 0#32
  ![0, v2370.toNat, 81, 0, 0]
def k0_off610 (v1 : BitVec 32) (k0_t34 : Fin (k0_t34_loop v1).trips) (v228 : BitVec 32) (v257 : BitVec 32) (k0_t37 : Fin (k0_t37_loop v228 v257).trips) : Fin 5 → Nat :=
  let c0_1212 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2387 : Index := Scalar.indexCast v226
  let c81_1213 : Index := 81#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2388 : Index := Scalar.indexCast v382
  let c0_1214 : Index := 0#32
  ![0, v2387.toNat, 81, v2388.toNat, 0]
def k0_off611 (v1 : BitVec 32) (k0_t34 : Fin (k0_t34_loop v1).trips) (v228 : BitVec 32) (v257 : BitVec 32) (k0_t37 : Fin (k0_t37_loop v228 v257).trips) : Fin 5 → Nat :=
  let c0_1215 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2392 : Index := Scalar.indexCast v226
  let c0_i32_406 : BitVec 32 := 0#32
  let c1_i32_408 : BitVec 32 := 1#32
  let arg19 : BitVec 32 := Scf.iv c0_i32_406 c1_i32_408 k0_t37
  let v2393 : Index := Scalar.indexCast arg19
  let c1312 : Index := 1312#32
  let c0_1216 : Index := 0#32
  ![0, v2392.toNat, v2393.toNat, 1312, 0]
def k0_off612 (v330 : BitVec 32) : Fin 5 → Nat :=
  let c0_1217 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2397 : Index := Scalar.indexCast v347
  let c82 : Index := 82#32
  let c0_1218 : Index := 0#32
  let c0_1219 : Index := 0#32
  ![0, v2397.toNat, 82, 0, 0]
def k0_off613 (v1 : BitVec 32) (k0_t34 : Fin (k0_t34_loop v1).trips) (v228 : BitVec 32) (v257 : BitVec 32) (k0_t37 : Fin (k0_t37_loop v228 v257).trips) : Fin 5 → Nat :=
  let c0_1222 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2414 : Index := Scalar.indexCast v226
  let c82_1223 : Index := 82#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2415 : Index := Scalar.indexCast v382
  let c0_1224 : Index := 0#32
  ![0, v2414.toNat, 82, v2415.toNat, 0]
def k0_off614 (v330 : BitVec 32) : Fin 5 → Nat :=
  let c0_1225 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2419 : Index := Scalar.indexCast v347
  let c83 : Index := 83#32
  let c0_1226 : Index := 0#32
  let c0_1227 : Index := 0#32
  ![0, v2419.toNat, 83, 0, 0]
def k0_off615 (v1 : BitVec 32) (k0_t34 : Fin (k0_t34_loop v1).trips) (v228 : BitVec 32) (v257 : BitVec 32) (k0_t37 : Fin (k0_t37_loop v228 v257).trips) : Fin 5 → Nat :=
  let c0_1230 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2436 : Index := Scalar.indexCast v226
  let c83_1231 : Index := 83#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2437 : Index := Scalar.indexCast v382
  let c0_1232 : Index := 0#32
  ![0, v2436.toNat, 83, v2437.toNat, 0]
def k0_off616 (v1 : BitVec 32) (k0_t34 : Fin (k0_t34_loop v1).trips) (v228 : BitVec 32) (v257 : BitVec 32) (k0_t37 : Fin (k0_t37_loop v228 v257).trips) : Fin 5 → Nat :=
  let c0_1233 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2441 : Index := Scalar.indexCast v226
  let c0_i32_406 : BitVec 32 := 0#32
  let c1_i32_408 : BitVec 32 := 1#32
  let arg19 : BitVec 32 := Scf.iv c0_i32_406 c1_i32_408 k0_t37
  let v2442 : Index := Scalar.indexCast arg19
  let c1344 : Index := 1344#32
  let c0_1234 : Index := 0#32
  ![0, v2441.toNat, v2442.toNat, 1344, 0]
def k0_off617 (v330 : BitVec 32) : Fin 5 → Nat :=
  let c0_1235 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2446 : Index := Scalar.indexCast v347
  let c84 : Index := 84#32
  let c0_1236 : Index := 0#32
  let c0_1237 : Index := 0#32
  ![0, v2446.toNat, 84, 0, 0]
def k0_off618 (v1 : BitVec 32) (k0_t34 : Fin (k0_t34_loop v1).trips) (v228 : BitVec 32) (v257 : BitVec 32) (k0_t37 : Fin (k0_t37_loop v228 v257).trips) : Fin 5 → Nat :=
  let c0_1240 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2463 : Index := Scalar.indexCast v226
  let c84_1241 : Index := 84#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2464 : Index := Scalar.indexCast v382
  let c0_1242 : Index := 0#32
  ![0, v2463.toNat, 84, v2464.toNat, 0]
def k0_off619 (v330 : BitVec 32) : Fin 5 → Nat :=
  let c0_1243 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2468 : Index := Scalar.indexCast v347
  let c85 : Index := 85#32
  let c0_1244 : Index := 0#32
  let c0_1245 : Index := 0#32
  ![0, v2468.toNat, 85, 0, 0]
def k0_off620 (v1 : BitVec 32) (k0_t34 : Fin (k0_t34_loop v1).trips) (v228 : BitVec 32) (v257 : BitVec 32) (k0_t37 : Fin (k0_t37_loop v228 v257).trips) : Fin 5 → Nat :=
  let c0_1248 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2485 : Index := Scalar.indexCast v226
  let c85_1249 : Index := 85#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2486 : Index := Scalar.indexCast v382
  let c0_1250 : Index := 0#32
  ![0, v2485.toNat, 85, v2486.toNat, 0]
def k0_off621 (v1 : BitVec 32) (k0_t34 : Fin (k0_t34_loop v1).trips) (v228 : BitVec 32) (v257 : BitVec 32) (k0_t37 : Fin (k0_t37_loop v228 v257).trips) : Fin 5 → Nat :=
  let c0_1251 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2490 : Index := Scalar.indexCast v226
  let c0_i32_406 : BitVec 32 := 0#32
  let c1_i32_408 : BitVec 32 := 1#32
  let arg19 : BitVec 32 := Scf.iv c0_i32_406 c1_i32_408 k0_t37
  let v2491 : Index := Scalar.indexCast arg19
  let c1376 : Index := 1376#32
  let c0_1252 : Index := 0#32
  ![0, v2490.toNat, v2491.toNat, 1376, 0]
def k0_off622 (v330 : BitVec 32) : Fin 5 → Nat :=
  let c0_1253 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2495 : Index := Scalar.indexCast v347
  let c86 : Index := 86#32
  let c0_1254 : Index := 0#32
  let c0_1255 : Index := 0#32
  ![0, v2495.toNat, 86, 0, 0]
def k0_off623 (v1 : BitVec 32) (k0_t34 : Fin (k0_t34_loop v1).trips) (v228 : BitVec 32) (v257 : BitVec 32) (k0_t37 : Fin (k0_t37_loop v228 v257).trips) : Fin 5 → Nat :=
  let c0_1258 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2512 : Index := Scalar.indexCast v226
  let c86_1259 : Index := 86#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2513 : Index := Scalar.indexCast v382
  let c0_1260 : Index := 0#32
  ![0, v2512.toNat, 86, v2513.toNat, 0]
def k0_off624 (v330 : BitVec 32) : Fin 5 → Nat :=
  let c0_1261 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2517 : Index := Scalar.indexCast v347
  let c87 : Index := 87#32
  let c0_1262 : Index := 0#32
  let c0_1263 : Index := 0#32
  ![0, v2517.toNat, 87, 0, 0]
def k0_off625 (v1 : BitVec 32) (k0_t34 : Fin (k0_t34_loop v1).trips) (v228 : BitVec 32) (v257 : BitVec 32) (k0_t37 : Fin (k0_t37_loop v228 v257).trips) : Fin 5 → Nat :=
  let c0_1266 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2534 : Index := Scalar.indexCast v226
  let c87_1267 : Index := 87#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2535 : Index := Scalar.indexCast v382
  let c0_1268 : Index := 0#32
  ![0, v2534.toNat, 87, v2535.toNat, 0]
def k0_off626 (v1 : BitVec 32) (k0_t34 : Fin (k0_t34_loop v1).trips) (v228 : BitVec 32) (v257 : BitVec 32) (k0_t37 : Fin (k0_t37_loop v228 v257).trips) : Fin 5 → Nat :=
  let c0_1269 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2539 : Index := Scalar.indexCast v226
  let c0_i32_406 : BitVec 32 := 0#32
  let c1_i32_408 : BitVec 32 := 1#32
  let arg19 : BitVec 32 := Scf.iv c0_i32_406 c1_i32_408 k0_t37
  let v2540 : Index := Scalar.indexCast arg19
  let c1408 : Index := 1408#32
  let c0_1270 : Index := 0#32
  ![0, v2539.toNat, v2540.toNat, 1408, 0]
def k0_off627 (v330 : BitVec 32) : Fin 5 → Nat :=
  let c0_1271 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2544 : Index := Scalar.indexCast v347
  let c88 : Index := 88#32
  let c0_1272 : Index := 0#32
  let c0_1273 : Index := 0#32
  ![0, v2544.toNat, 88, 0, 0]
def k0_off628 (v1 : BitVec 32) (k0_t34 : Fin (k0_t34_loop v1).trips) (v228 : BitVec 32) (v257 : BitVec 32) (k0_t37 : Fin (k0_t37_loop v228 v257).trips) : Fin 5 → Nat :=
  let c0_1276 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2561 : Index := Scalar.indexCast v226
  let c88_1277 : Index := 88#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2562 : Index := Scalar.indexCast v382
  let c0_1278 : Index := 0#32
  ![0, v2561.toNat, 88, v2562.toNat, 0]
def k0_off629 (v330 : BitVec 32) : Fin 5 → Nat :=
  let c0_1279 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2566 : Index := Scalar.indexCast v347
  let c89 : Index := 89#32
  let c0_1280 : Index := 0#32
  let c0_1281 : Index := 0#32
  ![0, v2566.toNat, 89, 0, 0]
def k0_off630 (v1 : BitVec 32) (k0_t34 : Fin (k0_t34_loop v1).trips) (v228 : BitVec 32) (v257 : BitVec 32) (k0_t37 : Fin (k0_t37_loop v228 v257).trips) : Fin 5 → Nat :=
  let c0_1284 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2583 : Index := Scalar.indexCast v226
  let c89_1285 : Index := 89#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2584 : Index := Scalar.indexCast v382
  let c0_1286 : Index := 0#32
  ![0, v2583.toNat, 89, v2584.toNat, 0]
def k0_off631 (v1 : BitVec 32) (k0_t34 : Fin (k0_t34_loop v1).trips) (v228 : BitVec 32) (v257 : BitVec 32) (k0_t37 : Fin (k0_t37_loop v228 v257).trips) : Fin 5 → Nat :=
  let c0_1287 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2588 : Index := Scalar.indexCast v226
  let c0_i32_406 : BitVec 32 := 0#32
  let c1_i32_408 : BitVec 32 := 1#32
  let arg19 : BitVec 32 := Scf.iv c0_i32_406 c1_i32_408 k0_t37
  let v2589 : Index := Scalar.indexCast arg19
  let c1440 : Index := 1440#32
  let c0_1288 : Index := 0#32
  ![0, v2588.toNat, v2589.toNat, 1440, 0]
def k0_off632 (v330 : BitVec 32) : Fin 5 → Nat :=
  let c0_1289 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2593 : Index := Scalar.indexCast v347
  let c90 : Index := 90#32
  let c0_1290 : Index := 0#32
  let c0_1291 : Index := 0#32
  ![0, v2593.toNat, 90, 0, 0]
def k0_off633 (v1 : BitVec 32) (k0_t34 : Fin (k0_t34_loop v1).trips) (v228 : BitVec 32) (v257 : BitVec 32) (k0_t37 : Fin (k0_t37_loop v228 v257).trips) : Fin 5 → Nat :=
  let c0_1294 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2610 : Index := Scalar.indexCast v226
  let c90_1295 : Index := 90#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2611 : Index := Scalar.indexCast v382
  let c0_1296 : Index := 0#32
  ![0, v2610.toNat, 90, v2611.toNat, 0]
def k0_off634 (v330 : BitVec 32) : Fin 5 → Nat :=
  let c0_1297 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2615 : Index := Scalar.indexCast v347
  let c91 : Index := 91#32
  let c0_1298 : Index := 0#32
  let c0_1299 : Index := 0#32
  ![0, v2615.toNat, 91, 0, 0]
def k0_off635 (v1 : BitVec 32) (k0_t34 : Fin (k0_t34_loop v1).trips) (v228 : BitVec 32) (v257 : BitVec 32) (k0_t37 : Fin (k0_t37_loop v228 v257).trips) : Fin 5 → Nat :=
  let c0_1302 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2632 : Index := Scalar.indexCast v226
  let c91_1303 : Index := 91#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2633 : Index := Scalar.indexCast v382
  let c0_1304 : Index := 0#32
  ![0, v2632.toNat, 91, v2633.toNat, 0]
def k0_off636 (v1 : BitVec 32) (k0_t34 : Fin (k0_t34_loop v1).trips) (v228 : BitVec 32) (v257 : BitVec 32) (k0_t37 : Fin (k0_t37_loop v228 v257).trips) : Fin 5 → Nat :=
  let c0_1305 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2637 : Index := Scalar.indexCast v226
  let c0_i32_406 : BitVec 32 := 0#32
  let c1_i32_408 : BitVec 32 := 1#32
  let arg19 : BitVec 32 := Scf.iv c0_i32_406 c1_i32_408 k0_t37
  let v2638 : Index := Scalar.indexCast arg19
  let c1472 : Index := 1472#32
  let c0_1306 : Index := 0#32
  ![0, v2637.toNat, v2638.toNat, 1472, 0]
def k0_off637 (v330 : BitVec 32) : Fin 5 → Nat :=
  let c0_1307 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2642 : Index := Scalar.indexCast v347
  let c92 : Index := 92#32
  let c0_1308 : Index := 0#32
  let c0_1309 : Index := 0#32
  ![0, v2642.toNat, 92, 0, 0]
def k0_off638 (v1 : BitVec 32) (k0_t34 : Fin (k0_t34_loop v1).trips) (v228 : BitVec 32) (v257 : BitVec 32) (k0_t37 : Fin (k0_t37_loop v228 v257).trips) : Fin 5 → Nat :=
  let c0_1312 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2659 : Index := Scalar.indexCast v226
  let c92_1313 : Index := 92#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2660 : Index := Scalar.indexCast v382
  let c0_1314 : Index := 0#32
  ![0, v2659.toNat, 92, v2660.toNat, 0]
def k0_off639 (v330 : BitVec 32) : Fin 5 → Nat :=
  let c0_1315 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2664 : Index := Scalar.indexCast v347
  let c93 : Index := 93#32
  let c0_1316 : Index := 0#32
  let c0_1317 : Index := 0#32
  ![0, v2664.toNat, 93, 0, 0]
def k0_off640 (v1 : BitVec 32) (k0_t34 : Fin (k0_t34_loop v1).trips) (v228 : BitVec 32) (v257 : BitVec 32) (k0_t37 : Fin (k0_t37_loop v228 v257).trips) : Fin 5 → Nat :=
  let c0_1320 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2681 : Index := Scalar.indexCast v226
  let c93_1321 : Index := 93#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2682 : Index := Scalar.indexCast v382
  let c0_1322 : Index := 0#32
  ![0, v2681.toNat, 93, v2682.toNat, 0]
def k0_off641 (v1 : BitVec 32) (k0_t34 : Fin (k0_t34_loop v1).trips) (v228 : BitVec 32) (v257 : BitVec 32) (k0_t37 : Fin (k0_t37_loop v228 v257).trips) : Fin 5 → Nat :=
  let c0_1323 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2686 : Index := Scalar.indexCast v226
  let c0_i32_406 : BitVec 32 := 0#32
  let c1_i32_408 : BitVec 32 := 1#32
  let arg19 : BitVec 32 := Scf.iv c0_i32_406 c1_i32_408 k0_t37
  let v2687 : Index := Scalar.indexCast arg19
  let c1504 : Index := 1504#32
  let c0_1324 : Index := 0#32
  ![0, v2686.toNat, v2687.toNat, 1504, 0]
def k0_off642 (v330 : BitVec 32) : Fin 5 → Nat :=
  let c0_1325 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2691 : Index := Scalar.indexCast v347
  let c94 : Index := 94#32
  let c0_1326 : Index := 0#32
  let c0_1327 : Index := 0#32
  ![0, v2691.toNat, 94, 0, 0]
def k0_off643 (v1 : BitVec 32) (k0_t34 : Fin (k0_t34_loop v1).trips) (v228 : BitVec 32) (v257 : BitVec 32) (k0_t37 : Fin (k0_t37_loop v228 v257).trips) : Fin 5 → Nat :=
  let c0_1330 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2708 : Index := Scalar.indexCast v226
  let c94_1331 : Index := 94#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2709 : Index := Scalar.indexCast v382
  let c0_1332 : Index := 0#32
  ![0, v2708.toNat, 94, v2709.toNat, 0]
def k0_off644 (v330 : BitVec 32) : Fin 5 → Nat :=
  let c0_1333 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2713 : Index := Scalar.indexCast v347
  let c95 : Index := 95#32
  let c0_1334 : Index := 0#32
  let c0_1335 : Index := 0#32
  ![0, v2713.toNat, 95, 0, 0]
def k0_off645 (v1 : BitVec 32) (k0_t34 : Fin (k0_t34_loop v1).trips) (v228 : BitVec 32) (v257 : BitVec 32) (k0_t37 : Fin (k0_t37_loop v228 v257).trips) : Fin 5 → Nat :=
  let c0_1338 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2730 : Index := Scalar.indexCast v226
  let c95_1339 : Index := 95#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2731 : Index := Scalar.indexCast v382
  let c0_1340 : Index := 0#32
  ![0, v2730.toNat, 95, v2731.toNat, 0]
def k0_off646 (v1 : BitVec 32) (k0_t34 : Fin (k0_t34_loop v1).trips) (v228 : BitVec 32) (v257 : BitVec 32) (k0_t37 : Fin (k0_t37_loop v228 v257).trips) : Fin 5 → Nat :=
  let c0_1341 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2735 : Index := Scalar.indexCast v226
  let c0_i32_406 : BitVec 32 := 0#32
  let c1_i32_408 : BitVec 32 := 1#32
  let arg19 : BitVec 32 := Scf.iv c0_i32_406 c1_i32_408 k0_t37
  let v2736 : Index := Scalar.indexCast arg19
  let c1536 : Index := 1536#32
  let c0_1342 : Index := 0#32
  ![0, v2735.toNat, v2736.toNat, 1536, 0]
def k0_off647 (v330 : BitVec 32) : Fin 5 → Nat :=
  let c0_1343 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2740 : Index := Scalar.indexCast v347
  let c96_1344 : Index := 96#32
  let c0_1345 : Index := 0#32
  let c0_1346 : Index := 0#32
  ![0, v2740.toNat, 96, 0, 0]
def k0_off648 (v1 : BitVec 32) (k0_t34 : Fin (k0_t34_loop v1).trips) (v228 : BitVec 32) (v257 : BitVec 32) (k0_t37 : Fin (k0_t37_loop v228 v257).trips) : Fin 5 → Nat :=
  let c0_1349 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2757 : Index := Scalar.indexCast v226
  let c96_1350 : Index := 96#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2758 : Index := Scalar.indexCast v382
  let c0_1351 : Index := 0#32
  ![0, v2757.toNat, 96, v2758.toNat, 0]
def k0_off649 (v330 : BitVec 32) : Fin 5 → Nat :=
  let c0_1352 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2762 : Index := Scalar.indexCast v347
  let c97 : Index := 97#32
  let c0_1353 : Index := 0#32
  let c0_1354 : Index := 0#32
  ![0, v2762.toNat, 97, 0, 0]
def k0_off650 (v1 : BitVec 32) (k0_t34 : Fin (k0_t34_loop v1).trips) (v228 : BitVec 32) (v257 : BitVec 32) (k0_t37 : Fin (k0_t37_loop v228 v257).trips) : Fin 5 → Nat :=
  let c0_1357 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2779 : Index := Scalar.indexCast v226
  let c97_1358 : Index := 97#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2780 : Index := Scalar.indexCast v382
  let c0_1359 : Index := 0#32
  ![0, v2779.toNat, 97, v2780.toNat, 0]
def k0_off651 (v1 : BitVec 32) (k0_t34 : Fin (k0_t34_loop v1).trips) (v228 : BitVec 32) (v257 : BitVec 32) (k0_t37 : Fin (k0_t37_loop v228 v257).trips) : Fin 5 → Nat :=
  let c0_1360 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2784 : Index := Scalar.indexCast v226
  let c0_i32_406 : BitVec 32 := 0#32
  let c1_i32_408 : BitVec 32 := 1#32
  let arg19 : BitVec 32 := Scf.iv c0_i32_406 c1_i32_408 k0_t37
  let v2785 : Index := Scalar.indexCast arg19
  let c1568 : Index := 1568#32
  let c0_1361 : Index := 0#32
  ![0, v2784.toNat, v2785.toNat, 1568, 0]
def k0_off652 (v330 : BitVec 32) : Fin 5 → Nat :=
  let c0_1362 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2789 : Index := Scalar.indexCast v347
  let c98 : Index := 98#32
  let c0_1363 : Index := 0#32
  let c0_1364 : Index := 0#32
  ![0, v2789.toNat, 98, 0, 0]
def k0_off653 (v1 : BitVec 32) (k0_t34 : Fin (k0_t34_loop v1).trips) (v228 : BitVec 32) (v257 : BitVec 32) (k0_t37 : Fin (k0_t37_loop v228 v257).trips) : Fin 5 → Nat :=
  let c0_1367 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2806 : Index := Scalar.indexCast v226
  let c98_1368 : Index := 98#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2807 : Index := Scalar.indexCast v382
  let c0_1369 : Index := 0#32
  ![0, v2806.toNat, 98, v2807.toNat, 0]
def k0_off654 (v330 : BitVec 32) : Fin 5 → Nat :=
  let c0_1370 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2811 : Index := Scalar.indexCast v347
  let c99 : Index := 99#32
  let c0_1371 : Index := 0#32
  let c0_1372 : Index := 0#32
  ![0, v2811.toNat, 99, 0, 0]
def k0_off655 (v1 : BitVec 32) (k0_t34 : Fin (k0_t34_loop v1).trips) (v228 : BitVec 32) (v257 : BitVec 32) (k0_t37 : Fin (k0_t37_loop v228 v257).trips) : Fin 5 → Nat :=
  let c0_1375 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2828 : Index := Scalar.indexCast v226
  let c99_1376 : Index := 99#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2829 : Index := Scalar.indexCast v382
  let c0_1377 : Index := 0#32
  ![0, v2828.toNat, 99, v2829.toNat, 0]
def k0_off656 (v1 : BitVec 32) (k0_t34 : Fin (k0_t34_loop v1).trips) (v228 : BitVec 32) (v257 : BitVec 32) (k0_t37 : Fin (k0_t37_loop v228 v257).trips) : Fin 5 → Nat :=
  let c0_1378 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2833 : Index := Scalar.indexCast v226
  let c0_i32_406 : BitVec 32 := 0#32
  let c1_i32_408 : BitVec 32 := 1#32
  let arg19 : BitVec 32 := Scf.iv c0_i32_406 c1_i32_408 k0_t37
  let v2834 : Index := Scalar.indexCast arg19
  let c1600 : Index := 1600#32
  let c0_1379 : Index := 0#32
  ![0, v2833.toNat, v2834.toNat, 1600, 0]
def k0_off657 (v330 : BitVec 32) : Fin 5 → Nat :=
  let c0_1380 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2838 : Index := Scalar.indexCast v347
  let c100 : Index := 100#32
  let c0_1381 : Index := 0#32
  let c0_1382 : Index := 0#32
  ![0, v2838.toNat, 100, 0, 0]
def k0_off658 (v1 : BitVec 32) (k0_t34 : Fin (k0_t34_loop v1).trips) (v228 : BitVec 32) (v257 : BitVec 32) (k0_t37 : Fin (k0_t37_loop v228 v257).trips) : Fin 5 → Nat :=
  let c0_1385 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2855 : Index := Scalar.indexCast v226
  let c100_1386 : Index := 100#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2856 : Index := Scalar.indexCast v382
  let c0_1387 : Index := 0#32
  ![0, v2855.toNat, 100, v2856.toNat, 0]
def k0_off659 (v330 : BitVec 32) : Fin 5 → Nat :=
  let c0_1388 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2860 : Index := Scalar.indexCast v347
  let c101 : Index := 101#32
  let c0_1389 : Index := 0#32
  let c0_1390 : Index := 0#32
  ![0, v2860.toNat, 101, 0, 0]
def k0_off660 (v1 : BitVec 32) (k0_t34 : Fin (k0_t34_loop v1).trips) (v228 : BitVec 32) (v257 : BitVec 32) (k0_t37 : Fin (k0_t37_loop v228 v257).trips) : Fin 5 → Nat :=
  let c0_1393 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2877 : Index := Scalar.indexCast v226
  let c101_1394 : Index := 101#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2878 : Index := Scalar.indexCast v382
  let c0_1395 : Index := 0#32
  ![0, v2877.toNat, 101, v2878.toNat, 0]
def k0_off661 (v1 : BitVec 32) (k0_t34 : Fin (k0_t34_loop v1).trips) (v228 : BitVec 32) (v257 : BitVec 32) (k0_t37 : Fin (k0_t37_loop v228 v257).trips) : Fin 5 → Nat :=
  let c0_1396 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2882 : Index := Scalar.indexCast v226
  let c0_i32_406 : BitVec 32 := 0#32
  let c1_i32_408 : BitVec 32 := 1#32
  let arg19 : BitVec 32 := Scf.iv c0_i32_406 c1_i32_408 k0_t37
  let v2883 : Index := Scalar.indexCast arg19
  let c1632 : Index := 1632#32
  let c0_1397 : Index := 0#32
  ![0, v2882.toNat, v2883.toNat, 1632, 0]
def k0_off662 (v330 : BitVec 32) : Fin 5 → Nat :=
  let c0_1398 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2887 : Index := Scalar.indexCast v347
  let c102 : Index := 102#32
  let c0_1399 : Index := 0#32
  let c0_1400 : Index := 0#32
  ![0, v2887.toNat, 102, 0, 0]
def k0_off663 (v1 : BitVec 32) (k0_t34 : Fin (k0_t34_loop v1).trips) (v228 : BitVec 32) (v257 : BitVec 32) (k0_t37 : Fin (k0_t37_loop v228 v257).trips) : Fin 5 → Nat :=
  let c0_1403 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2904 : Index := Scalar.indexCast v226
  let c102_1404 : Index := 102#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2905 : Index := Scalar.indexCast v382
  let c0_1405 : Index := 0#32
  ![0, v2904.toNat, 102, v2905.toNat, 0]
def k0_off664 (v330 : BitVec 32) : Fin 5 → Nat :=
  let c0_1406 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2909 : Index := Scalar.indexCast v347
  let c103 : Index := 103#32
  let c0_1407 : Index := 0#32
  let c0_1408 : Index := 0#32
  ![0, v2909.toNat, 103, 0, 0]
def k0_off665 (v1 : BitVec 32) (k0_t34 : Fin (k0_t34_loop v1).trips) (v228 : BitVec 32) (v257 : BitVec 32) (k0_t37 : Fin (k0_t37_loop v228 v257).trips) : Fin 5 → Nat :=
  let c0_1411 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2926 : Index := Scalar.indexCast v226
  let c103_1412 : Index := 103#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2927 : Index := Scalar.indexCast v382
  let c0_1413 : Index := 0#32
  ![0, v2926.toNat, 103, v2927.toNat, 0]
def k0_off666 (v1 : BitVec 32) (k0_t34 : Fin (k0_t34_loop v1).trips) (v228 : BitVec 32) (v257 : BitVec 32) (k0_t37 : Fin (k0_t37_loop v228 v257).trips) : Fin 5 → Nat :=
  let c0_1414 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2931 : Index := Scalar.indexCast v226
  let c0_i32_406 : BitVec 32 := 0#32
  let c1_i32_408 : BitVec 32 := 1#32
  let arg19 : BitVec 32 := Scf.iv c0_i32_406 c1_i32_408 k0_t37
  let v2932 : Index := Scalar.indexCast arg19
  let c1664 : Index := 1664#32
  let c0_1415 : Index := 0#32
  ![0, v2931.toNat, v2932.toNat, 1664, 0]
def k0_off667 (v330 : BitVec 32) : Fin 5 → Nat :=
  let c0_1416 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2936 : Index := Scalar.indexCast v347
  let c104 : Index := 104#32
  let c0_1417 : Index := 0#32
  let c0_1418 : Index := 0#32
  ![0, v2936.toNat, 104, 0, 0]
def k0_off668 (v1 : BitVec 32) (k0_t34 : Fin (k0_t34_loop v1).trips) (v228 : BitVec 32) (v257 : BitVec 32) (k0_t37 : Fin (k0_t37_loop v228 v257).trips) : Fin 5 → Nat :=
  let c0_1421 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2953 : Index := Scalar.indexCast v226
  let c104_1422 : Index := 104#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2954 : Index := Scalar.indexCast v382
  let c0_1423 : Index := 0#32
  ![0, v2953.toNat, 104, v2954.toNat, 0]
def k0_off669 (v330 : BitVec 32) : Fin 5 → Nat :=
  let c0_1424 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2958 : Index := Scalar.indexCast v347
  let c105 : Index := 105#32
  let c0_1425 : Index := 0#32
  let c0_1426 : Index := 0#32
  ![0, v2958.toNat, 105, 0, 0]
def k0_off670 (v1 : BitVec 32) (k0_t34 : Fin (k0_t34_loop v1).trips) (v228 : BitVec 32) (v257 : BitVec 32) (k0_t37 : Fin (k0_t37_loop v228 v257).trips) : Fin 5 → Nat :=
  let c0_1429 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2975 : Index := Scalar.indexCast v226
  let c105_1430 : Index := 105#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v2976 : Index := Scalar.indexCast v382
  let c0_1431 : Index := 0#32
  ![0, v2975.toNat, 105, v2976.toNat, 0]
def k0_off671 (v1 : BitVec 32) (k0_t34 : Fin (k0_t34_loop v1).trips) (v228 : BitVec 32) (v257 : BitVec 32) (k0_t37 : Fin (k0_t37_loop v228 v257).trips) : Fin 5 → Nat :=
  let c0_1432 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2980 : Index := Scalar.indexCast v226
  let c0_i32_406 : BitVec 32 := 0#32
  let c1_i32_408 : BitVec 32 := 1#32
  let arg19 : BitVec 32 := Scf.iv c0_i32_406 c1_i32_408 k0_t37
  let v2981 : Index := Scalar.indexCast arg19
  let c1696 : Index := 1696#32
  let c0_1433 : Index := 0#32
  ![0, v2980.toNat, v2981.toNat, 1696, 0]
def k0_off672 (v330 : BitVec 32) : Fin 5 → Nat :=
  let c0_1434 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2985 : Index := Scalar.indexCast v347
  let c106 : Index := 106#32
  let c0_1435 : Index := 0#32
  let c0_1436 : Index := 0#32
  ![0, v2985.toNat, 106, 0, 0]
def k0_off673 (v1 : BitVec 32) (k0_t34 : Fin (k0_t34_loop v1).trips) (v228 : BitVec 32) (v257 : BitVec 32) (k0_t37 : Fin (k0_t37_loop v228 v257).trips) : Fin 5 → Nat :=
  let c0_1439 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v3002 : Index := Scalar.indexCast v226
  let c106_1440 : Index := 106#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v3003 : Index := Scalar.indexCast v382
  let c0_1441 : Index := 0#32
  ![0, v3002.toNat, 106, v3003.toNat, 0]
def k0_off674 (v330 : BitVec 32) : Fin 5 → Nat :=
  let c0_1442 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v3007 : Index := Scalar.indexCast v347
  let c107 : Index := 107#32
  let c0_1443 : Index := 0#32
  let c0_1444 : Index := 0#32
  ![0, v3007.toNat, 107, 0, 0]

def k0_chk22_0 (v330 : BitVec 32) : Prop :=
  (∀ a, (k0_off407 v330) a + S1x1x1x8x128.size a ≤ S2x10x108x8x128.size a) ∧
  (∀ a, (k0_off409 v330) a + S1x1x1x8x128.size a ≤ S2x10x108x8x128.size a) ∧
  (∀ a, (k0_off412 v330) a + S1x1x1x8x128.size a ≤ S2x10x108x8x128.size a) ∧
  (∀ a, (k0_off414 v330) a + S1x1x1x8x128.size a ≤ S2x10x108x8x128.size a) ∧
  (∀ a, (k0_off417 v330) a + S1x1x1x8x128.size a ≤ S2x10x108x8x128.size a) ∧
  (∀ a, (k0_off419 v330) a + S1x1x1x8x128.size a ≤ S2x10x108x8x128.size a) ∧
  (∀ a, (k0_off422 v330) a + S1x1x1x8x128.size a ≤ S2x10x108x8x128.size a) ∧
  (∀ a, (k0_off424 v330) a + S1x1x1x8x128.size a ≤ S2x10x108x8x128.size a) ∧
  (∀ a, (k0_off427 v330) a + S1x1x1x8x128.size a ≤ S2x10x108x8x128.size a) ∧
  (∀ a, (k0_off429 v330) a + S1x1x1x8x128.size a ≤ S2x10x108x8x128.size a) ∧
  (∀ a, (k0_off432 v330) a + S1x1x1x8x128.size a ≤ S2x10x108x8x128.size a) ∧
  (∀ a, (k0_off434 v330) a + S1x1x1x8x128.size a ≤ S2x10x108x8x128.size a) ∧
  (∀ a, (k0_off437 v330) a + S1x1x1x8x128.size a ≤ S2x10x108x8x128.size a) ∧
  (∀ a, (k0_off439 v330) a + S1x1x1x8x128.size a ≤ S2x10x108x8x128.size a) ∧
  (∀ a, (k0_off442 v330) a + S1x1x1x8x128.size a ≤ S2x10x108x8x128.size a) ∧
  (∀ a, (k0_off444 v330) a + S1x1x1x8x128.size a ≤ S2x10x108x8x128.size a) ∧
  (∀ a, (k0_off447 v330) a + S1x1x1x8x128.size a ≤ S2x10x108x8x128.size a) ∧
  (∀ a, (k0_off449 v330) a + S1x1x1x8x128.size a ≤ S2x10x108x8x128.size a) ∧
  (∀ a, (k0_off452 v330) a + S1x1x1x8x128.size a ≤ S2x10x108x8x128.size a) ∧
  (∀ a, (k0_off454 v330) a + S1x1x1x8x128.size a ≤ S2x10x108x8x128.size a) ∧
  (∀ a, (k0_off457 v330) a + S1x1x1x8x128.size a ≤ S2x10x108x8x128.size a) ∧
  (∀ a, (k0_off459 v330) a + S1x1x1x8x128.size a ≤ S2x10x108x8x128.size a) ∧
  (∀ a, (k0_off462 v330) a + S1x1x1x8x128.size a ≤ S2x10x108x8x128.size a) ∧
  (∀ a, (k0_off464 v330) a + S1x1x1x8x128.size a ≤ S2x10x108x8x128.size a) ∧
  (∀ a, (k0_off467 v330) a + S1x1x1x8x128.size a ≤ S2x10x108x8x128.size a) ∧
  (∀ a, (k0_off469 v330) a + S1x1x1x8x128.size a ≤ S2x10x108x8x128.size a) ∧
  (∀ a, (k0_off472 v330) a + S1x1x1x8x128.size a ≤ S2x10x108x8x128.size a) ∧
  (∀ a, (k0_off474 v330) a + S1x1x1x8x128.size a ≤ S2x10x108x8x128.size a) ∧
  (∀ a, (k0_off477 v330) a + S1x1x1x8x128.size a ≤ S2x10x108x8x128.size a) ∧
  (∀ a, (k0_off479 v330) a + S1x1x1x8x128.size a ≤ S2x10x108x8x128.size a) ∧
  (∀ a, (k0_off482 v330) a + S1x1x1x8x128.size a ≤ S2x10x108x8x128.size a) ∧
  (∀ a, (k0_off484 v330) a + S1x1x1x8x128.size a ≤ S2x10x108x8x128.size a)
def k0_chk22_1 (v330 : BitVec 32) : Prop :=
  (∀ a, (k0_off487 v330) a + S1x1x1x8x128.size a ≤ S2x10x108x8x128.size a) ∧
  (∀ a, (k0_off489 v330) a + S1x1x1x8x128.size a ≤ S2x10x108x8x128.size a) ∧
  (∀ a, (k0_off492 v330) a + S1x1x1x8x128.size a ≤ S2x10x108x8x128.size a) ∧
  (∀ a, (k0_off494 v330) a + S1x1x1x8x128.size a ≤ S2x10x108x8x128.size a) ∧
  (∀ a, (k0_off497 v330) a + S1x1x1x8x128.size a ≤ S2x10x108x8x128.size a) ∧
  (∀ a, (k0_off499 v330) a + S1x1x1x8x128.size a ≤ S2x10x108x8x128.size a) ∧
  (∀ a, (k0_off502 v330) a + S1x1x1x8x128.size a ≤ S2x10x108x8x128.size a) ∧
  (∀ a, (k0_off504 v330) a + S1x1x1x8x128.size a ≤ S2x10x108x8x128.size a) ∧
  (∀ a, (k0_off507 v330) a + S1x1x1x8x128.size a ≤ S2x10x108x8x128.size a) ∧
  (∀ a, (k0_off509 v330) a + S1x1x1x8x128.size a ≤ S2x10x108x8x128.size a) ∧
  (∀ a, (k0_off512 v330) a + S1x1x1x8x128.size a ≤ S2x10x108x8x128.size a) ∧
  (∀ a, (k0_off514 v330) a + S1x1x1x8x128.size a ≤ S2x10x108x8x128.size a) ∧
  (∀ a, (k0_off517 v330) a + S1x1x1x8x128.size a ≤ S2x10x108x8x128.size a) ∧
  (∀ a, (k0_off519 v330) a + S1x1x1x8x128.size a ≤ S2x10x108x8x128.size a) ∧
  (∀ a, (k0_off522 v330) a + S1x1x1x8x128.size a ≤ S2x10x108x8x128.size a) ∧
  (∀ a, (k0_off524 v330) a + S1x1x1x8x128.size a ≤ S2x10x108x8x128.size a) ∧
  (∀ a, (k0_off527 v330) a + S1x1x1x8x128.size a ≤ S2x10x108x8x128.size a) ∧
  (∀ a, (k0_off529 v330) a + S1x1x1x8x128.size a ≤ S2x10x108x8x128.size a) ∧
  (∀ a, (k0_off532 v330) a + S1x1x1x8x128.size a ≤ S2x10x108x8x128.size a) ∧
  (∀ a, (k0_off534 v330) a + S1x1x1x8x128.size a ≤ S2x10x108x8x128.size a) ∧
  (∀ a, (k0_off537 v330) a + S1x1x1x8x128.size a ≤ S2x10x108x8x128.size a) ∧
  (∀ a, (k0_off539 v330) a + S1x1x1x8x128.size a ≤ S2x10x108x8x128.size a) ∧
  (∀ a, (k0_off542 v330) a + S1x1x1x8x128.size a ≤ S2x10x108x8x128.size a) ∧
  (∀ a, (k0_off544 v330) a + S1x1x1x8x128.size a ≤ S2x10x108x8x128.size a) ∧
  (∀ a, (k0_off547 v330) a + S1x1x1x8x128.size a ≤ S2x10x108x8x128.size a) ∧
  (∀ a, (k0_off549 v330) a + S1x1x1x8x128.size a ≤ S2x10x108x8x128.size a) ∧
  (∀ a, (k0_off552 v330) a + S1x1x1x8x128.size a ≤ S2x10x108x8x128.size a) ∧
  (∀ a, (k0_off554 v330) a + S1x1x1x8x128.size a ≤ S2x10x108x8x128.size a) ∧
  (∀ a, (k0_off557 v330) a + S1x1x1x8x128.size a ≤ S2x10x108x8x128.size a) ∧
  (∀ a, (k0_off559 v330) a + S1x1x1x8x128.size a ≤ S2x10x108x8x128.size a) ∧
  (∀ a, (k0_off562 v330) a + S1x1x1x8x128.size a ≤ S2x10x108x8x128.size a) ∧
  (∀ a, (k0_off564 v330) a + S1x1x1x8x128.size a ≤ S2x10x108x8x128.size a)
def k0_chk22_2 (v330 : BitVec 32) : Prop :=
  (∀ a, (k0_off567 v330) a + S1x1x1x8x128.size a ≤ S2x10x108x8x128.size a) ∧
  (∀ a, (k0_off569 v330) a + S1x1x1x8x128.size a ≤ S2x10x108x8x128.size a) ∧
  (∀ a, (k0_off572 v330) a + S1x1x1x8x128.size a ≤ S2x10x108x8x128.size a) ∧
  (∀ a, (k0_off574 v330) a + S1x1x1x8x128.size a ≤ S2x10x108x8x128.size a) ∧
  (∀ a, (k0_off577 v330) a + S1x1x1x8x128.size a ≤ S2x10x108x8x128.size a) ∧
  (∀ a, (k0_off579 v330) a + S1x1x1x8x128.size a ≤ S2x10x108x8x128.size a) ∧
  (∀ a, (k0_off582 v330) a + S1x1x1x8x128.size a ≤ S2x10x108x8x128.size a) ∧
  (∀ a, (k0_off584 v330) a + S1x1x1x8x128.size a ≤ S2x10x108x8x128.size a) ∧
  (∀ a, (k0_off587 v330) a + S1x1x1x8x128.size a ≤ S2x10x108x8x128.size a) ∧
  (∀ a, (k0_off589 v330) a + S1x1x1x8x128.size a ≤ S2x10x108x8x128.size a) ∧
  (∀ a, (k0_off592 v330) a + S1x1x1x8x128.size a ≤ S2x10x108x8x128.size a) ∧
  (∀ a, (k0_off594 v330) a + S1x1x1x8x128.size a ≤ S2x10x108x8x128.size a) ∧
  (∀ a, (k0_off597 v330) a + S1x1x1x8x128.size a ≤ S2x10x108x8x128.size a) ∧
  (∀ a, (k0_off599 v330) a + S1x1x1x8x128.size a ≤ S2x10x108x8x128.size a) ∧
  (∀ a, (k0_off602 v330) a + S1x1x1x8x128.size a ≤ S2x10x108x8x128.size a) ∧
  (∀ a, (k0_off604 v330) a + S1x1x1x8x128.size a ≤ S2x10x108x8x128.size a) ∧
  (∀ a, (k0_off607 v330) a + S1x1x1x8x128.size a ≤ S2x10x108x8x128.size a) ∧
  (∀ a, (k0_off609 v330) a + S1x1x1x8x128.size a ≤ S2x10x108x8x128.size a) ∧
  (∀ a, (k0_off612 v330) a + S1x1x1x8x128.size a ≤ S2x10x108x8x128.size a) ∧
  (∀ a, (k0_off614 v330) a + S1x1x1x8x128.size a ≤ S2x10x108x8x128.size a) ∧
  (∀ a, (k0_off617 v330) a + S1x1x1x8x128.size a ≤ S2x10x108x8x128.size a) ∧
  (∀ a, (k0_off619 v330) a + S1x1x1x8x128.size a ≤ S2x10x108x8x128.size a) ∧
  (∀ a, (k0_off622 v330) a + S1x1x1x8x128.size a ≤ S2x10x108x8x128.size a) ∧
  (∀ a, (k0_off624 v330) a + S1x1x1x8x128.size a ≤ S2x10x108x8x128.size a) ∧
  (∀ a, (k0_off627 v330) a + S1x1x1x8x128.size a ≤ S2x10x108x8x128.size a) ∧
  (∀ a, (k0_off629 v330) a + S1x1x1x8x128.size a ≤ S2x10x108x8x128.size a) ∧
  (∀ a, (k0_off632 v330) a + S1x1x1x8x128.size a ≤ S2x10x108x8x128.size a) ∧
  (∀ a, (k0_off634 v330) a + S1x1x1x8x128.size a ≤ S2x10x108x8x128.size a) ∧
  (∀ a, (k0_off637 v330) a + S1x1x1x8x128.size a ≤ S2x10x108x8x128.size a) ∧
  (∀ a, (k0_off639 v330) a + S1x1x1x8x128.size a ≤ S2x10x108x8x128.size a) ∧
  (∀ a, (k0_off642 v330) a + S1x1x1x8x128.size a ≤ S2x10x108x8x128.size a) ∧
  (∀ a, (k0_off644 v330) a + S1x1x1x8x128.size a ≤ S2x10x108x8x128.size a)
def k0_chk22_3 (v330 : BitVec 32) : Prop :=
  (∀ a, (k0_off647 v330) a + S1x1x1x8x128.size a ≤ S2x10x108x8x128.size a) ∧
  (∀ a, (k0_off649 v330) a + S1x1x1x8x128.size a ≤ S2x10x108x8x128.size a) ∧
  (∀ a, (k0_off652 v330) a + S1x1x1x8x128.size a ≤ S2x10x108x8x128.size a) ∧
  (∀ a, (k0_off654 v330) a + S1x1x1x8x128.size a ≤ S2x10x108x8x128.size a) ∧
  (∀ a, (k0_off657 v330) a + S1x1x1x8x128.size a ≤ S2x10x108x8x128.size a) ∧
  (∀ a, (k0_off659 v330) a + S1x1x1x8x128.size a ≤ S2x10x108x8x128.size a) ∧
  (∀ a, (k0_off662 v330) a + S1x1x1x8x128.size a ≤ S2x10x108x8x128.size a) ∧
  (∀ a, (k0_off664 v330) a + S1x1x1x8x128.size a ≤ S2x10x108x8x128.size a) ∧
  (∀ a, (k0_off667 v330) a + S1x1x1x8x128.size a ≤ S2x10x108x8x128.size a) ∧
  (∀ a, (k0_off669 v330) a + S1x1x1x8x128.size a ≤ S2x10x108x8x128.size a) ∧
  (∀ a, (k0_off672 v330) a + S1x1x1x8x128.size a ≤ S2x10x108x8x128.size a) ∧
  (∀ a, (k0_off674 v330) a + S1x1x1x8x128.size a ≤ S2x10x108x8x128.size a)
def k0_chk22 (v330 : BitVec 32) : Prop :=
  k0_chk22_0 v330 ∧
  k0_chk22_1 v330 ∧
  k0_chk22_2 v330 ∧
  k0_chk22_3 v330
theorem k0_off407_inb : ∀ (v330 : BitVec 32) (k0_hw22 : k0_chk22 v330), ∀ a, (k0_off407 v330) a + S1x1x1x8x128.size a ≤ S2x10x108x8x128.size a := fun v330 k0_hw22 => k0_hw22.1.1
theorem k0_off409_inb : ∀ (v330 : BitVec 32) (k0_hw22 : k0_chk22 v330), ∀ a, (k0_off409 v330) a + S1x1x1x8x128.size a ≤ S2x10x108x8x128.size a := fun v330 k0_hw22 => k0_hw22.1.2.1
theorem k0_off412_inb : ∀ (v330 : BitVec 32) (k0_hw22 : k0_chk22 v330), ∀ a, (k0_off412 v330) a + S1x1x1x8x128.size a ≤ S2x10x108x8x128.size a := fun v330 k0_hw22 => k0_hw22.1.2.2.1
theorem k0_off414_inb : ∀ (v330 : BitVec 32) (k0_hw22 : k0_chk22 v330), ∀ a, (k0_off414 v330) a + S1x1x1x8x128.size a ≤ S2x10x108x8x128.size a := fun v330 k0_hw22 => k0_hw22.1.2.2.2.1
theorem k0_off417_inb : ∀ (v330 : BitVec 32) (k0_hw22 : k0_chk22 v330), ∀ a, (k0_off417 v330) a + S1x1x1x8x128.size a ≤ S2x10x108x8x128.size a := fun v330 k0_hw22 => k0_hw22.1.2.2.2.2.1
theorem k0_off419_inb : ∀ (v330 : BitVec 32) (k0_hw22 : k0_chk22 v330), ∀ a, (k0_off419 v330) a + S1x1x1x8x128.size a ≤ S2x10x108x8x128.size a := fun v330 k0_hw22 => k0_hw22.1.2.2.2.2.2.1
theorem k0_off422_inb : ∀ (v330 : BitVec 32) (k0_hw22 : k0_chk22 v330), ∀ a, (k0_off422 v330) a + S1x1x1x8x128.size a ≤ S2x10x108x8x128.size a := fun v330 k0_hw22 => k0_hw22.1.2.2.2.2.2.2.1
theorem k0_off424_inb : ∀ (v330 : BitVec 32) (k0_hw22 : k0_chk22 v330), ∀ a, (k0_off424 v330) a + S1x1x1x8x128.size a ≤ S2x10x108x8x128.size a := fun v330 k0_hw22 => k0_hw22.1.2.2.2.2.2.2.2.1
theorem k0_off427_inb : ∀ (v330 : BitVec 32) (k0_hw22 : k0_chk22 v330), ∀ a, (k0_off427 v330) a + S1x1x1x8x128.size a ≤ S2x10x108x8x128.size a := fun v330 k0_hw22 => k0_hw22.1.2.2.2.2.2.2.2.2.1
theorem k0_off429_inb : ∀ (v330 : BitVec 32) (k0_hw22 : k0_chk22 v330), ∀ a, (k0_off429 v330) a + S1x1x1x8x128.size a ≤ S2x10x108x8x128.size a := fun v330 k0_hw22 => k0_hw22.1.2.2.2.2.2.2.2.2.2.1
theorem k0_off432_inb : ∀ (v330 : BitVec 32) (k0_hw22 : k0_chk22 v330), ∀ a, (k0_off432 v330) a + S1x1x1x8x128.size a ≤ S2x10x108x8x128.size a := fun v330 k0_hw22 => k0_hw22.1.2.2.2.2.2.2.2.2.2.2.1
theorem k0_off434_inb : ∀ (v330 : BitVec 32) (k0_hw22 : k0_chk22 v330), ∀ a, (k0_off434 v330) a + S1x1x1x8x128.size a ≤ S2x10x108x8x128.size a := fun v330 k0_hw22 => k0_hw22.1.2.2.2.2.2.2.2.2.2.2.2.1
theorem k0_off437_inb : ∀ (v330 : BitVec 32) (k0_hw22 : k0_chk22 v330), ∀ a, (k0_off437 v330) a + S1x1x1x8x128.size a ≤ S2x10x108x8x128.size a := fun v330 k0_hw22 => k0_hw22.1.2.2.2.2.2.2.2.2.2.2.2.2.1
theorem k0_off439_inb : ∀ (v330 : BitVec 32) (k0_hw22 : k0_chk22 v330), ∀ a, (k0_off439 v330) a + S1x1x1x8x128.size a ≤ S2x10x108x8x128.size a := fun v330 k0_hw22 => k0_hw22.1.2.2.2.2.2.2.2.2.2.2.2.2.2.1
theorem k0_off442_inb : ∀ (v330 : BitVec 32) (k0_hw22 : k0_chk22 v330), ∀ a, (k0_off442 v330) a + S1x1x1x8x128.size a ≤ S2x10x108x8x128.size a := fun v330 k0_hw22 => k0_hw22.1.2.2.2.2.2.2.2.2.2.2.2.2.2.2.1
theorem k0_off444_inb : ∀ (v330 : BitVec 32) (k0_hw22 : k0_chk22 v330), ∀ a, (k0_off444 v330) a + S1x1x1x8x128.size a ≤ S2x10x108x8x128.size a := fun v330 k0_hw22 => k0_hw22.1.2.2.2.2.2.2.2.2.2.2.2.2.2.2.2.1
theorem k0_off447_inb : ∀ (v330 : BitVec 32) (k0_hw22 : k0_chk22 v330), ∀ a, (k0_off447 v330) a + S1x1x1x8x128.size a ≤ S2x10x108x8x128.size a := fun v330 k0_hw22 => k0_hw22.1.2.2.2.2.2.2.2.2.2.2.2.2.2.2.2.2.1
theorem k0_off449_inb : ∀ (v330 : BitVec 32) (k0_hw22 : k0_chk22 v330), ∀ a, (k0_off449 v330) a + S1x1x1x8x128.size a ≤ S2x10x108x8x128.size a := fun v330 k0_hw22 => k0_hw22.1.2.2.2.2.2.2.2.2.2.2.2.2.2.2.2.2.2.1
theorem k0_off452_inb : ∀ (v330 : BitVec 32) (k0_hw22 : k0_chk22 v330), ∀ a, (k0_off452 v330) a + S1x1x1x8x128.size a ≤ S2x10x108x8x128.size a := fun v330 k0_hw22 => k0_hw22.1.2.2.2.2.2.2.2.2.2.2.2.2.2.2.2.2.2.2.1
theorem k0_off454_inb : ∀ (v330 : BitVec 32) (k0_hw22 : k0_chk22 v330), ∀ a, (k0_off454 v330) a + S1x1x1x8x128.size a ≤ S2x10x108x8x128.size a := fun v330 k0_hw22 => k0_hw22.1.2.2.2.2.2.2.2.2.2.2.2.2.2.2.2.2.2.2.2.1
theorem k0_off457_inb : ∀ (v330 : BitVec 32) (k0_hw22 : k0_chk22 v330), ∀ a, (k0_off457 v330) a + S1x1x1x8x128.size a ≤ S2x10x108x8x128.size a := fun v330 k0_hw22 => k0_hw22.1.2.2.2.2.2.2.2.2.2.2.2.2.2.2.2.2.2.2.2.2.1
theorem k0_off459_inb : ∀ (v330 : BitVec 32) (k0_hw22 : k0_chk22 v330), ∀ a, (k0_off459 v330) a + S1x1x1x8x128.size a ≤ S2x10x108x8x128.size a := fun v330 k0_hw22 => k0_hw22.1.2.2.2.2.2.2.2.2.2.2.2.2.2.2.2.2.2.2.2.2.2.1
theorem k0_off462_inb : ∀ (v330 : BitVec 32) (k0_hw22 : k0_chk22 v330), ∀ a, (k0_off462 v330) a + S1x1x1x8x128.size a ≤ S2x10x108x8x128.size a := fun v330 k0_hw22 => k0_hw22.1.2.2.2.2.2.2.2.2.2.2.2.2.2.2.2.2.2.2.2.2.2.2.1
theorem k0_off464_inb : ∀ (v330 : BitVec 32) (k0_hw22 : k0_chk22 v330), ∀ a, (k0_off464 v330) a + S1x1x1x8x128.size a ≤ S2x10x108x8x128.size a := fun v330 k0_hw22 => k0_hw22.1.2.2.2.2.2.2.2.2.2.2.2.2.2.2.2.2.2.2.2.2.2.2.2.1
theorem k0_off467_inb : ∀ (v330 : BitVec 32) (k0_hw22 : k0_chk22 v330), ∀ a, (k0_off467 v330) a + S1x1x1x8x128.size a ≤ S2x10x108x8x128.size a := fun v330 k0_hw22 => k0_hw22.1.2.2.2.2.2.2.2.2.2.2.2.2.2.2.2.2.2.2.2.2.2.2.2.2.1
theorem k0_off469_inb : ∀ (v330 : BitVec 32) (k0_hw22 : k0_chk22 v330), ∀ a, (k0_off469 v330) a + S1x1x1x8x128.size a ≤ S2x10x108x8x128.size a := fun v330 k0_hw22 => k0_hw22.1.2.2.2.2.2.2.2.2.2.2.2.2.2.2.2.2.2.2.2.2.2.2.2.2.2.1
theorem k0_off472_inb : ∀ (v330 : BitVec 32) (k0_hw22 : k0_chk22 v330), ∀ a, (k0_off472 v330) a + S1x1x1x8x128.size a ≤ S2x10x108x8x128.size a := fun v330 k0_hw22 => k0_hw22.1.2.2.2.2.2.2.2.2.2.2.2.2.2.2.2.2.2.2.2.2.2.2.2.2.2.2.1
theorem k0_off474_inb : ∀ (v330 : BitVec 32) (k0_hw22 : k0_chk22 v330), ∀ a, (k0_off474 v330) a + S1x1x1x8x128.size a ≤ S2x10x108x8x128.size a := fun v330 k0_hw22 => k0_hw22.1.2.2.2.2.2.2.2.2.2.2.2.2.2.2.2.2.2.2.2.2.2.2.2.2.2.2.2.1
theorem k0_off477_inb : ∀ (v330 : BitVec 32) (k0_hw22 : k0_chk22 v330), ∀ a, (k0_off477 v330) a + S1x1x1x8x128.size a ≤ S2x10x108x8x128.size a := fun v330 k0_hw22 => k0_hw22.1.2.2.2.2.2.2.2.2.2.2.2.2.2.2.2.2.2.2.2.2.2.2.2.2.2.2.2.2.1
theorem k0_off479_inb : ∀ (v330 : BitVec 32) (k0_hw22 : k0_chk22 v330), ∀ a, (k0_off479 v330) a + S1x1x1x8x128.size a ≤ S2x10x108x8x128.size a := fun v330 k0_hw22 => k0_hw22.1.2.2.2.2.2.2.2.2.2.2.2.2.2.2.2.2.2.2.2.2.2.2.2.2.2.2.2.2.2.1
theorem k0_off482_inb : ∀ (v330 : BitVec 32) (k0_hw22 : k0_chk22 v330), ∀ a, (k0_off482 v330) a + S1x1x1x8x128.size a ≤ S2x10x108x8x128.size a := fun v330 k0_hw22 => k0_hw22.1.2.2.2.2.2.2.2.2.2.2.2.2.2.2.2.2.2.2.2.2.2.2.2.2.2.2.2.2.2.2.1
theorem k0_off484_inb : ∀ (v330 : BitVec 32) (k0_hw22 : k0_chk22 v330), ∀ a, (k0_off484 v330) a + S1x1x1x8x128.size a ≤ S2x10x108x8x128.size a := fun v330 k0_hw22 => k0_hw22.1.2.2.2.2.2.2.2.2.2.2.2.2.2.2.2.2.2.2.2.2.2.2.2.2.2.2.2.2.2.2.2
theorem k0_off487_inb : ∀ (v330 : BitVec 32) (k0_hw22 : k0_chk22 v330), ∀ a, (k0_off487 v330) a + S1x1x1x8x128.size a ≤ S2x10x108x8x128.size a := fun v330 k0_hw22 => k0_hw22.2.1.1
theorem k0_off489_inb : ∀ (v330 : BitVec 32) (k0_hw22 : k0_chk22 v330), ∀ a, (k0_off489 v330) a + S1x1x1x8x128.size a ≤ S2x10x108x8x128.size a := fun v330 k0_hw22 => k0_hw22.2.1.2.1
theorem k0_off492_inb : ∀ (v330 : BitVec 32) (k0_hw22 : k0_chk22 v330), ∀ a, (k0_off492 v330) a + S1x1x1x8x128.size a ≤ S2x10x108x8x128.size a := fun v330 k0_hw22 => k0_hw22.2.1.2.2.1
theorem k0_off494_inb : ∀ (v330 : BitVec 32) (k0_hw22 : k0_chk22 v330), ∀ a, (k0_off494 v330) a + S1x1x1x8x128.size a ≤ S2x10x108x8x128.size a := fun v330 k0_hw22 => k0_hw22.2.1.2.2.2.1
theorem k0_off497_inb : ∀ (v330 : BitVec 32) (k0_hw22 : k0_chk22 v330), ∀ a, (k0_off497 v330) a + S1x1x1x8x128.size a ≤ S2x10x108x8x128.size a := fun v330 k0_hw22 => k0_hw22.2.1.2.2.2.2.1
theorem k0_off499_inb : ∀ (v330 : BitVec 32) (k0_hw22 : k0_chk22 v330), ∀ a, (k0_off499 v330) a + S1x1x1x8x128.size a ≤ S2x10x108x8x128.size a := fun v330 k0_hw22 => k0_hw22.2.1.2.2.2.2.2.1
theorem k0_off502_inb : ∀ (v330 : BitVec 32) (k0_hw22 : k0_chk22 v330), ∀ a, (k0_off502 v330) a + S1x1x1x8x128.size a ≤ S2x10x108x8x128.size a := fun v330 k0_hw22 => k0_hw22.2.1.2.2.2.2.2.2.1
theorem k0_off504_inb : ∀ (v330 : BitVec 32) (k0_hw22 : k0_chk22 v330), ∀ a, (k0_off504 v330) a + S1x1x1x8x128.size a ≤ S2x10x108x8x128.size a := fun v330 k0_hw22 => k0_hw22.2.1.2.2.2.2.2.2.2.1
theorem k0_off507_inb : ∀ (v330 : BitVec 32) (k0_hw22 : k0_chk22 v330), ∀ a, (k0_off507 v330) a + S1x1x1x8x128.size a ≤ S2x10x108x8x128.size a := fun v330 k0_hw22 => k0_hw22.2.1.2.2.2.2.2.2.2.2.1
theorem k0_off509_inb : ∀ (v330 : BitVec 32) (k0_hw22 : k0_chk22 v330), ∀ a, (k0_off509 v330) a + S1x1x1x8x128.size a ≤ S2x10x108x8x128.size a := fun v330 k0_hw22 => k0_hw22.2.1.2.2.2.2.2.2.2.2.2.1
theorem k0_off512_inb : ∀ (v330 : BitVec 32) (k0_hw22 : k0_chk22 v330), ∀ a, (k0_off512 v330) a + S1x1x1x8x128.size a ≤ S2x10x108x8x128.size a := fun v330 k0_hw22 => k0_hw22.2.1.2.2.2.2.2.2.2.2.2.2.1
theorem k0_off514_inb : ∀ (v330 : BitVec 32) (k0_hw22 : k0_chk22 v330), ∀ a, (k0_off514 v330) a + S1x1x1x8x128.size a ≤ S2x10x108x8x128.size a := fun v330 k0_hw22 => k0_hw22.2.1.2.2.2.2.2.2.2.2.2.2.2.1
theorem k0_off517_inb : ∀ (v330 : BitVec 32) (k0_hw22 : k0_chk22 v330), ∀ a, (k0_off517 v330) a + S1x1x1x8x128.size a ≤ S2x10x108x8x128.size a := fun v330 k0_hw22 => k0_hw22.2.1.2.2.2.2.2.2.2.2.2.2.2.2.1
theorem k0_off519_inb : ∀ (v330 : BitVec 32) (k0_hw22 : k0_chk22 v330), ∀ a, (k0_off519 v330) a + S1x1x1x8x128.size a ≤ S2x10x108x8x128.size a := fun v330 k0_hw22 => k0_hw22.2.1.2.2.2.2.2.2.2.2.2.2.2.2.2.1
theorem k0_off522_inb : ∀ (v330 : BitVec 32) (k0_hw22 : k0_chk22 v330), ∀ a, (k0_off522 v330) a + S1x1x1x8x128.size a ≤ S2x10x108x8x128.size a := fun v330 k0_hw22 => k0_hw22.2.1.2.2.2.2.2.2.2.2.2.2.2.2.2.2.1
theorem k0_off524_inb : ∀ (v330 : BitVec 32) (k0_hw22 : k0_chk22 v330), ∀ a, (k0_off524 v330) a + S1x1x1x8x128.size a ≤ S2x10x108x8x128.size a := fun v330 k0_hw22 => k0_hw22.2.1.2.2.2.2.2.2.2.2.2.2.2.2.2.2.2.1
theorem k0_off527_inb : ∀ (v330 : BitVec 32) (k0_hw22 : k0_chk22 v330), ∀ a, (k0_off527 v330) a + S1x1x1x8x128.size a ≤ S2x10x108x8x128.size a := fun v330 k0_hw22 => k0_hw22.2.1.2.2.2.2.2.2.2.2.2.2.2.2.2.2.2.2.1
theorem k0_off529_inb : ∀ (v330 : BitVec 32) (k0_hw22 : k0_chk22 v330), ∀ a, (k0_off529 v330) a + S1x1x1x8x128.size a ≤ S2x10x108x8x128.size a := fun v330 k0_hw22 => k0_hw22.2.1.2.2.2.2.2.2.2.2.2.2.2.2.2.2.2.2.2.1
theorem k0_off532_inb : ∀ (v330 : BitVec 32) (k0_hw22 : k0_chk22 v330), ∀ a, (k0_off532 v330) a + S1x1x1x8x128.size a ≤ S2x10x108x8x128.size a := fun v330 k0_hw22 => k0_hw22.2.1.2.2.2.2.2.2.2.2.2.2.2.2.2.2.2.2.2.2.1
theorem k0_off534_inb : ∀ (v330 : BitVec 32) (k0_hw22 : k0_chk22 v330), ∀ a, (k0_off534 v330) a + S1x1x1x8x128.size a ≤ S2x10x108x8x128.size a := fun v330 k0_hw22 => k0_hw22.2.1.2.2.2.2.2.2.2.2.2.2.2.2.2.2.2.2.2.2.2.1
theorem k0_off537_inb : ∀ (v330 : BitVec 32) (k0_hw22 : k0_chk22 v330), ∀ a, (k0_off537 v330) a + S1x1x1x8x128.size a ≤ S2x10x108x8x128.size a := fun v330 k0_hw22 => k0_hw22.2.1.2.2.2.2.2.2.2.2.2.2.2.2.2.2.2.2.2.2.2.2.1
theorem k0_off539_inb : ∀ (v330 : BitVec 32) (k0_hw22 : k0_chk22 v330), ∀ a, (k0_off539 v330) a + S1x1x1x8x128.size a ≤ S2x10x108x8x128.size a := fun v330 k0_hw22 => k0_hw22.2.1.2.2.2.2.2.2.2.2.2.2.2.2.2.2.2.2.2.2.2.2.2.1
theorem k0_off542_inb : ∀ (v330 : BitVec 32) (k0_hw22 : k0_chk22 v330), ∀ a, (k0_off542 v330) a + S1x1x1x8x128.size a ≤ S2x10x108x8x128.size a := fun v330 k0_hw22 => k0_hw22.2.1.2.2.2.2.2.2.2.2.2.2.2.2.2.2.2.2.2.2.2.2.2.2.1
theorem k0_off544_inb : ∀ (v330 : BitVec 32) (k0_hw22 : k0_chk22 v330), ∀ a, (k0_off544 v330) a + S1x1x1x8x128.size a ≤ S2x10x108x8x128.size a := fun v330 k0_hw22 => k0_hw22.2.1.2.2.2.2.2.2.2.2.2.2.2.2.2.2.2.2.2.2.2.2.2.2.2.1
theorem k0_off547_inb : ∀ (v330 : BitVec 32) (k0_hw22 : k0_chk22 v330), ∀ a, (k0_off547 v330) a + S1x1x1x8x128.size a ≤ S2x10x108x8x128.size a := fun v330 k0_hw22 => k0_hw22.2.1.2.2.2.2.2.2.2.2.2.2.2.2.2.2.2.2.2.2.2.2.2.2.2.2.1
theorem k0_off549_inb : ∀ (v330 : BitVec 32) (k0_hw22 : k0_chk22 v330), ∀ a, (k0_off549 v330) a + S1x1x1x8x128.size a ≤ S2x10x108x8x128.size a := fun v330 k0_hw22 => k0_hw22.2.1.2.2.2.2.2.2.2.2.2.2.2.2.2.2.2.2.2.2.2.2.2.2.2.2.2.1
theorem k0_off552_inb : ∀ (v330 : BitVec 32) (k0_hw22 : k0_chk22 v330), ∀ a, (k0_off552 v330) a + S1x1x1x8x128.size a ≤ S2x10x108x8x128.size a := fun v330 k0_hw22 => k0_hw22.2.1.2.2.2.2.2.2.2.2.2.2.2.2.2.2.2.2.2.2.2.2.2.2.2.2.2.2.1
theorem k0_off554_inb : ∀ (v330 : BitVec 32) (k0_hw22 : k0_chk22 v330), ∀ a, (k0_off554 v330) a + S1x1x1x8x128.size a ≤ S2x10x108x8x128.size a := fun v330 k0_hw22 => k0_hw22.2.1.2.2.2.2.2.2.2.2.2.2.2.2.2.2.2.2.2.2.2.2.2.2.2.2.2.2.2.1
theorem k0_off557_inb : ∀ (v330 : BitVec 32) (k0_hw22 : k0_chk22 v330), ∀ a, (k0_off557 v330) a + S1x1x1x8x128.size a ≤ S2x10x108x8x128.size a := fun v330 k0_hw22 => k0_hw22.2.1.2.2.2.2.2.2.2.2.2.2.2.2.2.2.2.2.2.2.2.2.2.2.2.2.2.2.2.2.1
theorem k0_off559_inb : ∀ (v330 : BitVec 32) (k0_hw22 : k0_chk22 v330), ∀ a, (k0_off559 v330) a + S1x1x1x8x128.size a ≤ S2x10x108x8x128.size a := fun v330 k0_hw22 => k0_hw22.2.1.2.2.2.2.2.2.2.2.2.2.2.2.2.2.2.2.2.2.2.2.2.2.2.2.2.2.2.2.2.1
theorem k0_off562_inb : ∀ (v330 : BitVec 32) (k0_hw22 : k0_chk22 v330), ∀ a, (k0_off562 v330) a + S1x1x1x8x128.size a ≤ S2x10x108x8x128.size a := fun v330 k0_hw22 => k0_hw22.2.1.2.2.2.2.2.2.2.2.2.2.2.2.2.2.2.2.2.2.2.2.2.2.2.2.2.2.2.2.2.2.1
theorem k0_off564_inb : ∀ (v330 : BitVec 32) (k0_hw22 : k0_chk22 v330), ∀ a, (k0_off564 v330) a + S1x1x1x8x128.size a ≤ S2x10x108x8x128.size a := fun v330 k0_hw22 => k0_hw22.2.1.2.2.2.2.2.2.2.2.2.2.2.2.2.2.2.2.2.2.2.2.2.2.2.2.2.2.2.2.2.2.2
theorem k0_off567_inb : ∀ (v330 : BitVec 32) (k0_hw22 : k0_chk22 v330), ∀ a, (k0_off567 v330) a + S1x1x1x8x128.size a ≤ S2x10x108x8x128.size a := fun v330 k0_hw22 => k0_hw22.2.2.1.1
theorem k0_off569_inb : ∀ (v330 : BitVec 32) (k0_hw22 : k0_chk22 v330), ∀ a, (k0_off569 v330) a + S1x1x1x8x128.size a ≤ S2x10x108x8x128.size a := fun v330 k0_hw22 => k0_hw22.2.2.1.2.1
theorem k0_off572_inb : ∀ (v330 : BitVec 32) (k0_hw22 : k0_chk22 v330), ∀ a, (k0_off572 v330) a + S1x1x1x8x128.size a ≤ S2x10x108x8x128.size a := fun v330 k0_hw22 => k0_hw22.2.2.1.2.2.1
theorem k0_off574_inb : ∀ (v330 : BitVec 32) (k0_hw22 : k0_chk22 v330), ∀ a, (k0_off574 v330) a + S1x1x1x8x128.size a ≤ S2x10x108x8x128.size a := fun v330 k0_hw22 => k0_hw22.2.2.1.2.2.2.1
theorem k0_off577_inb : ∀ (v330 : BitVec 32) (k0_hw22 : k0_chk22 v330), ∀ a, (k0_off577 v330) a + S1x1x1x8x128.size a ≤ S2x10x108x8x128.size a := fun v330 k0_hw22 => k0_hw22.2.2.1.2.2.2.2.1
theorem k0_off579_inb : ∀ (v330 : BitVec 32) (k0_hw22 : k0_chk22 v330), ∀ a, (k0_off579 v330) a + S1x1x1x8x128.size a ≤ S2x10x108x8x128.size a := fun v330 k0_hw22 => k0_hw22.2.2.1.2.2.2.2.2.1
theorem k0_off582_inb : ∀ (v330 : BitVec 32) (k0_hw22 : k0_chk22 v330), ∀ a, (k0_off582 v330) a + S1x1x1x8x128.size a ≤ S2x10x108x8x128.size a := fun v330 k0_hw22 => k0_hw22.2.2.1.2.2.2.2.2.2.1
theorem k0_off584_inb : ∀ (v330 : BitVec 32) (k0_hw22 : k0_chk22 v330), ∀ a, (k0_off584 v330) a + S1x1x1x8x128.size a ≤ S2x10x108x8x128.size a := fun v330 k0_hw22 => k0_hw22.2.2.1.2.2.2.2.2.2.2.1
theorem k0_off587_inb : ∀ (v330 : BitVec 32) (k0_hw22 : k0_chk22 v330), ∀ a, (k0_off587 v330) a + S1x1x1x8x128.size a ≤ S2x10x108x8x128.size a := fun v330 k0_hw22 => k0_hw22.2.2.1.2.2.2.2.2.2.2.2.1
theorem k0_off589_inb : ∀ (v330 : BitVec 32) (k0_hw22 : k0_chk22 v330), ∀ a, (k0_off589 v330) a + S1x1x1x8x128.size a ≤ S2x10x108x8x128.size a := fun v330 k0_hw22 => k0_hw22.2.2.1.2.2.2.2.2.2.2.2.2.1
theorem k0_off592_inb : ∀ (v330 : BitVec 32) (k0_hw22 : k0_chk22 v330), ∀ a, (k0_off592 v330) a + S1x1x1x8x128.size a ≤ S2x10x108x8x128.size a := fun v330 k0_hw22 => k0_hw22.2.2.1.2.2.2.2.2.2.2.2.2.2.1
theorem k0_off594_inb : ∀ (v330 : BitVec 32) (k0_hw22 : k0_chk22 v330), ∀ a, (k0_off594 v330) a + S1x1x1x8x128.size a ≤ S2x10x108x8x128.size a := fun v330 k0_hw22 => k0_hw22.2.2.1.2.2.2.2.2.2.2.2.2.2.2.1
theorem k0_off597_inb : ∀ (v330 : BitVec 32) (k0_hw22 : k0_chk22 v330), ∀ a, (k0_off597 v330) a + S1x1x1x8x128.size a ≤ S2x10x108x8x128.size a := fun v330 k0_hw22 => k0_hw22.2.2.1.2.2.2.2.2.2.2.2.2.2.2.2.1
theorem k0_off599_inb : ∀ (v330 : BitVec 32) (k0_hw22 : k0_chk22 v330), ∀ a, (k0_off599 v330) a + S1x1x1x8x128.size a ≤ S2x10x108x8x128.size a := fun v330 k0_hw22 => k0_hw22.2.2.1.2.2.2.2.2.2.2.2.2.2.2.2.2.1
theorem k0_off602_inb : ∀ (v330 : BitVec 32) (k0_hw22 : k0_chk22 v330), ∀ a, (k0_off602 v330) a + S1x1x1x8x128.size a ≤ S2x10x108x8x128.size a := fun v330 k0_hw22 => k0_hw22.2.2.1.2.2.2.2.2.2.2.2.2.2.2.2.2.2.1
theorem k0_off604_inb : ∀ (v330 : BitVec 32) (k0_hw22 : k0_chk22 v330), ∀ a, (k0_off604 v330) a + S1x1x1x8x128.size a ≤ S2x10x108x8x128.size a := fun v330 k0_hw22 => k0_hw22.2.2.1.2.2.2.2.2.2.2.2.2.2.2.2.2.2.2.1
theorem k0_off607_inb : ∀ (v330 : BitVec 32) (k0_hw22 : k0_chk22 v330), ∀ a, (k0_off607 v330) a + S1x1x1x8x128.size a ≤ S2x10x108x8x128.size a := fun v330 k0_hw22 => k0_hw22.2.2.1.2.2.2.2.2.2.2.2.2.2.2.2.2.2.2.2.1
theorem k0_off609_inb : ∀ (v330 : BitVec 32) (k0_hw22 : k0_chk22 v330), ∀ a, (k0_off609 v330) a + S1x1x1x8x128.size a ≤ S2x10x108x8x128.size a := fun v330 k0_hw22 => k0_hw22.2.2.1.2.2.2.2.2.2.2.2.2.2.2.2.2.2.2.2.2.1
theorem k0_off612_inb : ∀ (v330 : BitVec 32) (k0_hw22 : k0_chk22 v330), ∀ a, (k0_off612 v330) a + S1x1x1x8x128.size a ≤ S2x10x108x8x128.size a := fun v330 k0_hw22 => k0_hw22.2.2.1.2.2.2.2.2.2.2.2.2.2.2.2.2.2.2.2.2.2.1
theorem k0_off614_inb : ∀ (v330 : BitVec 32) (k0_hw22 : k0_chk22 v330), ∀ a, (k0_off614 v330) a + S1x1x1x8x128.size a ≤ S2x10x108x8x128.size a := fun v330 k0_hw22 => k0_hw22.2.2.1.2.2.2.2.2.2.2.2.2.2.2.2.2.2.2.2.2.2.2.1
theorem k0_off617_inb : ∀ (v330 : BitVec 32) (k0_hw22 : k0_chk22 v330), ∀ a, (k0_off617 v330) a + S1x1x1x8x128.size a ≤ S2x10x108x8x128.size a := fun v330 k0_hw22 => k0_hw22.2.2.1.2.2.2.2.2.2.2.2.2.2.2.2.2.2.2.2.2.2.2.2.1
theorem k0_off619_inb : ∀ (v330 : BitVec 32) (k0_hw22 : k0_chk22 v330), ∀ a, (k0_off619 v330) a + S1x1x1x8x128.size a ≤ S2x10x108x8x128.size a := fun v330 k0_hw22 => k0_hw22.2.2.1.2.2.2.2.2.2.2.2.2.2.2.2.2.2.2.2.2.2.2.2.2.1
theorem k0_off622_inb : ∀ (v330 : BitVec 32) (k0_hw22 : k0_chk22 v330), ∀ a, (k0_off622 v330) a + S1x1x1x8x128.size a ≤ S2x10x108x8x128.size a := fun v330 k0_hw22 => k0_hw22.2.2.1.2.2.2.2.2.2.2.2.2.2.2.2.2.2.2.2.2.2.2.2.2.2.1
theorem k0_off624_inb : ∀ (v330 : BitVec 32) (k0_hw22 : k0_chk22 v330), ∀ a, (k0_off624 v330) a + S1x1x1x8x128.size a ≤ S2x10x108x8x128.size a := fun v330 k0_hw22 => k0_hw22.2.2.1.2.2.2.2.2.2.2.2.2.2.2.2.2.2.2.2.2.2.2.2.2.2.2.1
theorem k0_off627_inb : ∀ (v330 : BitVec 32) (k0_hw22 : k0_chk22 v330), ∀ a, (k0_off627 v330) a + S1x1x1x8x128.size a ≤ S2x10x108x8x128.size a := fun v330 k0_hw22 => k0_hw22.2.2.1.2.2.2.2.2.2.2.2.2.2.2.2.2.2.2.2.2.2.2.2.2.2.2.2.1
theorem k0_off629_inb : ∀ (v330 : BitVec 32) (k0_hw22 : k0_chk22 v330), ∀ a, (k0_off629 v330) a + S1x1x1x8x128.size a ≤ S2x10x108x8x128.size a := fun v330 k0_hw22 => k0_hw22.2.2.1.2.2.2.2.2.2.2.2.2.2.2.2.2.2.2.2.2.2.2.2.2.2.2.2.2.1
theorem k0_off632_inb : ∀ (v330 : BitVec 32) (k0_hw22 : k0_chk22 v330), ∀ a, (k0_off632 v330) a + S1x1x1x8x128.size a ≤ S2x10x108x8x128.size a := fun v330 k0_hw22 => k0_hw22.2.2.1.2.2.2.2.2.2.2.2.2.2.2.2.2.2.2.2.2.2.2.2.2.2.2.2.2.2.1
theorem k0_off634_inb : ∀ (v330 : BitVec 32) (k0_hw22 : k0_chk22 v330), ∀ a, (k0_off634 v330) a + S1x1x1x8x128.size a ≤ S2x10x108x8x128.size a := fun v330 k0_hw22 => k0_hw22.2.2.1.2.2.2.2.2.2.2.2.2.2.2.2.2.2.2.2.2.2.2.2.2.2.2.2.2.2.2.1
theorem k0_off637_inb : ∀ (v330 : BitVec 32) (k0_hw22 : k0_chk22 v330), ∀ a, (k0_off637 v330) a + S1x1x1x8x128.size a ≤ S2x10x108x8x128.size a := fun v330 k0_hw22 => k0_hw22.2.2.1.2.2.2.2.2.2.2.2.2.2.2.2.2.2.2.2.2.2.2.2.2.2.2.2.2.2.2.2.1
theorem k0_off639_inb : ∀ (v330 : BitVec 32) (k0_hw22 : k0_chk22 v330), ∀ a, (k0_off639 v330) a + S1x1x1x8x128.size a ≤ S2x10x108x8x128.size a := fun v330 k0_hw22 => k0_hw22.2.2.1.2.2.2.2.2.2.2.2.2.2.2.2.2.2.2.2.2.2.2.2.2.2.2.2.2.2.2.2.2.1
theorem k0_off642_inb : ∀ (v330 : BitVec 32) (k0_hw22 : k0_chk22 v330), ∀ a, (k0_off642 v330) a + S1x1x1x8x128.size a ≤ S2x10x108x8x128.size a := fun v330 k0_hw22 => k0_hw22.2.2.1.2.2.2.2.2.2.2.2.2.2.2.2.2.2.2.2.2.2.2.2.2.2.2.2.2.2.2.2.2.2.1
theorem k0_off644_inb : ∀ (v330 : BitVec 32) (k0_hw22 : k0_chk22 v330), ∀ a, (k0_off644 v330) a + S1x1x1x8x128.size a ≤ S2x10x108x8x128.size a := fun v330 k0_hw22 => k0_hw22.2.2.1.2.2.2.2.2.2.2.2.2.2.2.2.2.2.2.2.2.2.2.2.2.2.2.2.2.2.2.2.2.2.2
theorem k0_off647_inb : ∀ (v330 : BitVec 32) (k0_hw22 : k0_chk22 v330), ∀ a, (k0_off647 v330) a + S1x1x1x8x128.size a ≤ S2x10x108x8x128.size a := fun v330 k0_hw22 => k0_hw22.2.2.2.1
theorem k0_off649_inb : ∀ (v330 : BitVec 32) (k0_hw22 : k0_chk22 v330), ∀ a, (k0_off649 v330) a + S1x1x1x8x128.size a ≤ S2x10x108x8x128.size a := fun v330 k0_hw22 => k0_hw22.2.2.2.2.1
theorem k0_off652_inb : ∀ (v330 : BitVec 32) (k0_hw22 : k0_chk22 v330), ∀ a, (k0_off652 v330) a + S1x1x1x8x128.size a ≤ S2x10x108x8x128.size a := fun v330 k0_hw22 => k0_hw22.2.2.2.2.2.1
theorem k0_off654_inb : ∀ (v330 : BitVec 32) (k0_hw22 : k0_chk22 v330), ∀ a, (k0_off654 v330) a + S1x1x1x8x128.size a ≤ S2x10x108x8x128.size a := fun v330 k0_hw22 => k0_hw22.2.2.2.2.2.2.1
theorem k0_off657_inb : ∀ (v330 : BitVec 32) (k0_hw22 : k0_chk22 v330), ∀ a, (k0_off657 v330) a + S1x1x1x8x128.size a ≤ S2x10x108x8x128.size a := fun v330 k0_hw22 => k0_hw22.2.2.2.2.2.2.2.1
theorem k0_off659_inb : ∀ (v330 : BitVec 32) (k0_hw22 : k0_chk22 v330), ∀ a, (k0_off659 v330) a + S1x1x1x8x128.size a ≤ S2x10x108x8x128.size a := fun v330 k0_hw22 => k0_hw22.2.2.2.2.2.2.2.2.1
theorem k0_off662_inb : ∀ (v330 : BitVec 32) (k0_hw22 : k0_chk22 v330), ∀ a, (k0_off662 v330) a + S1x1x1x8x128.size a ≤ S2x10x108x8x128.size a := fun v330 k0_hw22 => k0_hw22.2.2.2.2.2.2.2.2.2.1
theorem k0_off664_inb : ∀ (v330 : BitVec 32) (k0_hw22 : k0_chk22 v330), ∀ a, (k0_off664 v330) a + S1x1x1x8x128.size a ≤ S2x10x108x8x128.size a := fun v330 k0_hw22 => k0_hw22.2.2.2.2.2.2.2.2.2.2.1
theorem k0_off667_inb : ∀ (v330 : BitVec 32) (k0_hw22 : k0_chk22 v330), ∀ a, (k0_off667 v330) a + S1x1x1x8x128.size a ≤ S2x10x108x8x128.size a := fun v330 k0_hw22 => k0_hw22.2.2.2.2.2.2.2.2.2.2.2.1
theorem k0_off669_inb : ∀ (v330 : BitVec 32) (k0_hw22 : k0_chk22 v330), ∀ a, (k0_off669 v330) a + S1x1x1x8x128.size a ≤ S2x10x108x8x128.size a := fun v330 k0_hw22 => k0_hw22.2.2.2.2.2.2.2.2.2.2.2.2.1
theorem k0_off672_inb : ∀ (v330 : BitVec 32) (k0_hw22 : k0_chk22 v330), ∀ a, (k0_off672 v330) a + S1x1x1x8x128.size a ≤ S2x10x108x8x128.size a := fun v330 k0_hw22 => k0_hw22.2.2.2.2.2.2.2.2.2.2.2.2.2.1
theorem k0_off674_inb : ∀ (v330 : BitVec 32) (k0_hw22 : k0_chk22 v330), ∀ a, (k0_off674 v330) a + S1x1x1x8x128.size a ≤ S2x10x108x8x128.size a := fun v330 k0_hw22 => k0_hw22.2.2.2.2.2.2.2.2.2.2.2.2.2.2

def k0_off675 (v1 : BitVec 32) (k0_t34 : Fin (k0_t34_loop v1).trips) (v228 : BitVec 32) (v257 : BitVec 32) (k0_t37 : Fin (k0_t37_loop v228 v257).trips) : Fin 5 → Nat :=
  let c0_1447 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v3024 : Index := Scalar.indexCast v226
  let c107_1448 : Index := 107#32
  let c0_i32_406 : BitVec 32 := 0#32
  let c1_i32_408 : BitVec 32 := 1#32
  let arg19 : BitVec 32 := Scf.iv c0_i32_406 c1_i32_408 k0_t37
  let c16_i32_473 : BitVec 32 := 16#32
  let v381 : BitVec 32 := Scalar.muli arg19 c16_i32_473
  let v382 : BitVec 32 := v381
  let v3025 : Index := Scalar.indexCast v382
  let c0_1449 : Index := 0#32
  ![0, v3024.toNat, 107, v3025.toNat, 0]
@[reducible] def k0_t38_loop (v228 : BitVec 32) (v257 : BitVec 32) : Scf.Loop 32 :=
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let v275 : BitVec 32 := Scalar.addi c0_i32_406 v274
  let c1_i32_409 : BitVec 32 := 1#32
  ⟨v278, v275, c1_i32_409⟩
def k0_off676 (v228 : BitVec 32) (v257 : BitVec 32) (k0_t38 : Fin (k0_t38_loop v228 v257).trips) : Fin 2 → Nat :=
  let c0_i32_381 : BitVec 32 := 0#32
  let v230 : BitVec 1 := Scalar.cmpi .sgt v228 c0_i32_381
  let v231 : BitVec 32 := Scalar.extui v230
  let c0_i32_382 : BitVec 32 := 0#32
  let v232 : BitVec 1 := Scalar.cmpi .slt v228 c0_i32_382
  let v233 : BitVec 32 := Scalar.extui v232
  let v234 : BitVec 32 := Scalar.subi v231 v233
  let c16_i32 : BitVec 32 := 16#32
  let c0_i32_383 : BitVec 32 := 0#32
  let v235 : BitVec 1 := Scalar.cmpi .sgt c16_i32 c0_i32_383
  let v236 : BitVec 32 := Scalar.extui v235
  let c0_i32_384 : BitVec 32 := 0#32
  let v237 : BitVec 1 := Scalar.cmpi .slt c16_i32 c0_i32_384
  let v238 : BitVec 32 := Scalar.extui v237
  let v239 : BitVec 32 := Scalar.subi v236 v238
  let v240 : BitVec 1 := Scalar.cmpi .ne v234 v239
  let v241 : BitVec 32 := Scalar.remsi v228 c16_i32
  let c0_i32_385 : BitVec 32 := 0#32
  let v242 : BitVec 1 := Scalar.cmpi .ne v241 c0_i32_385
  let v243 : BitVec 1 := Scalar.andi v240 v242
  let v229 : BitVec 32 := Scalar.divsi v228 c16_i32
  let c1_i32_386 : BitVec 32 := 1#32
  let v244 : BitVec 32 := Scalar.subi v229 c1_i32_386
  let v245 : BitVec 32 := Scalar.select v243 v244 v229
  let v328 : Index := Scalar.indexCast v245
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_452 : BitVec 32 := 8#32
  let v326 : BitVec 32 := Scalar.muli v255 c8_i32_452
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v327 : BitVec 32 := Scalar.addi v326 arg19
  let v329 : Index := Scalar.indexCast v327
  ![v328.toNat, v329.toNat]
def k0_off677 (v228 : BitVec 32) : Fin 1 → Nat :=
  let c0_i32_381 : BitVec 32 := 0#32
  let v230 : BitVec 1 := Scalar.cmpi .sgt v228 c0_i32_381
  let v231 : BitVec 32 := Scalar.extui v230
  let c0_i32_382 : BitVec 32 := 0#32
  let v232 : BitVec 1 := Scalar.cmpi .slt v228 c0_i32_382
  let v233 : BitVec 32 := Scalar.extui v232
  let v234 : BitVec 32 := Scalar.subi v231 v233
  let c16_i32 : BitVec 32 := 16#32
  let c0_i32_383 : BitVec 32 := 0#32
  let v235 : BitVec 1 := Scalar.cmpi .sgt c16_i32 c0_i32_383
  let v236 : BitVec 32 := Scalar.extui v235
  let c0_i32_384 : BitVec 32 := 0#32
  let v237 : BitVec 1 := Scalar.cmpi .slt c16_i32 c0_i32_384
  let v238 : BitVec 32 := Scalar.extui v237
  let v239 : BitVec 32 := Scalar.subi v236 v238
  let v240 : BitVec 1 := Scalar.cmpi .ne v234 v239
  let v241 : BitVec 32 := Scalar.remsi v228 c16_i32
  let c0_i32_385 : BitVec 32 := 0#32
  let v242 : BitVec 1 := Scalar.cmpi .ne v241 c0_i32_385
  let v243 : BitVec 1 := Scalar.andi v240 v242
  let v229 : BitVec 32 := Scalar.divsi v228 c16_i32
  let c1_i32_386 : BitVec 32 := 1#32
  let v244 : BitVec 32 := Scalar.subi v229 c1_i32_386
  let v245 : BitVec 32 := Scalar.select v243 v244 v229
  let v359 : Index := Scalar.indexCast v245
  ![v359.toNat]
def k0_mult7 (v228 : BitVec 32) (v257 : BitVec 32) (k0_t38 : Fin (k0_t38_loop v228 v257).trips) : BitVec 32 :=
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  v381
def k0_off678 (v1 : BitVec 32) (k0_t34 : Fin (k0_t34_loop v1).trips) (v228 : BitVec 32) (v257 : BitVec 32) (k0_t38 : Fin (k0_t38_loop v228 v257).trips) : Fin 5 → Nat :=
  let c0 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v383 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v384 : Index := Scalar.indexCast arg19
  let c0_474 : Index := 0#32
  let c0_475 : Index := 0#32
  ![0, v383.toNat, v384.toNat, 0, 0]
def k0_off679 (v330 : BitVec 32) : Fin 5 → Nat :=
  let c0_476 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v388 : Index := Scalar.indexCast v347
  let c0_477 : Index := 0#32
  let c0_478 : Index := 0#32
  let c0_479 : Index := 0#32
  ![0, v388.toNat, 0, 0, 0]

def k0_off680 (v1 : BitVec 32) (k0_t34 : Fin (k0_t34_loop v1).trips) (v228 : BitVec 32) (v257 : BitVec 32) (k0_t38 : Fin (k0_t38_loop v228 v257).trips) : Fin 5 → Nat :=
  let c0_482 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v405 : Index := Scalar.indexCast v226
  let c0_483 : Index := 0#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v406 : Index := Scalar.indexCast v382
  let c0_484 : Index := 0#32
  ![0, v405.toNat, 0, v406.toNat, 0]
def k0_off681 (v330 : BitVec 32) : Fin 5 → Nat :=
  let c0_485 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v410 : Index := Scalar.indexCast v347
  let c1 : Index := 1#32
  let c0_486 : Index := 0#32
  let c0_487 : Index := 0#32
  ![0, v410.toNat, 1, 0, 0]
def k0_off682 (v1 : BitVec 32) (k0_t34 : Fin (k0_t34_loop v1).trips) (v228 : BitVec 32) (v257 : BitVec 32) (k0_t38 : Fin (k0_t38_loop v228 v257).trips) : Fin 5 → Nat :=
  let c0_490 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v427 : Index := Scalar.indexCast v226
  let c1_491 : Index := 1#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v428 : Index := Scalar.indexCast v382
  let c0_492 : Index := 0#32
  ![0, v427.toNat, 1, v428.toNat, 0]
def k0_off683 (v1 : BitVec 32) (k0_t34 : Fin (k0_t34_loop v1).trips) (v228 : BitVec 32) (v257 : BitVec 32) (k0_t38 : Fin (k0_t38_loop v228 v257).trips) : Fin 5 → Nat :=
  let c0_493 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v432 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v433 : Index := Scalar.indexCast arg19
  let c32 : Index := 32#32
  let c0_494 : Index := 0#32
  ![0, v432.toNat, v433.toNat, 32, 0]
def k0_off684 (v330 : BitVec 32) : Fin 5 → Nat :=
  let c0_495 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v437 : Index := Scalar.indexCast v347
  let c2 : Index := 2#32
  let c0_496 : Index := 0#32
  let c0_497 : Index := 0#32
  ![0, v437.toNat, 2, 0, 0]
def k0_off685 (v1 : BitVec 32) (k0_t34 : Fin (k0_t34_loop v1).trips) (v228 : BitVec 32) (v257 : BitVec 32) (k0_t38 : Fin (k0_t38_loop v228 v257).trips) : Fin 5 → Nat :=
  let c0_500 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v454 : Index := Scalar.indexCast v226
  let c2_501 : Index := 2#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v455 : Index := Scalar.indexCast v382
  let c0_502 : Index := 0#32
  ![0, v454.toNat, 2, v455.toNat, 0]
def k0_off686 (v330 : BitVec 32) : Fin 5 → Nat :=
  let c0_503 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v459 : Index := Scalar.indexCast v347
  let c3 : Index := 3#32
  let c0_504 : Index := 0#32
  let c0_505 : Index := 0#32
  ![0, v459.toNat, 3, 0, 0]
def k0_off687 (v1 : BitVec 32) (k0_t34 : Fin (k0_t34_loop v1).trips) (v228 : BitVec 32) (v257 : BitVec 32) (k0_t38 : Fin (k0_t38_loop v228 v257).trips) : Fin 5 → Nat :=
  let c0_508 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v476 : Index := Scalar.indexCast v226
  let c3_509 : Index := 3#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v477 : Index := Scalar.indexCast v382
  let c0_510 : Index := 0#32
  ![0, v476.toNat, 3, v477.toNat, 0]
def k0_off688 (v1 : BitVec 32) (k0_t34 : Fin (k0_t34_loop v1).trips) (v228 : BitVec 32) (v257 : BitVec 32) (k0_t38 : Fin (k0_t38_loop v228 v257).trips) : Fin 5 → Nat :=
  let c0_511 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v481 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v482 : Index := Scalar.indexCast arg19
  let c64 : Index := 64#32
  let c0_512 : Index := 0#32
  ![0, v481.toNat, v482.toNat, 64, 0]
def k0_off689 (v330 : BitVec 32) : Fin 5 → Nat :=
  let c0_513 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v486 : Index := Scalar.indexCast v347
  let c4 : Index := 4#32
  let c0_514 : Index := 0#32
  let c0_515 : Index := 0#32
  ![0, v486.toNat, 4, 0, 0]
def k0_off690 (v1 : BitVec 32) (k0_t34 : Fin (k0_t34_loop v1).trips) (v228 : BitVec 32) (v257 : BitVec 32) (k0_t38 : Fin (k0_t38_loop v228 v257).trips) : Fin 5 → Nat :=
  let c0_518 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v503 : Index := Scalar.indexCast v226
  let c4_519 : Index := 4#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v504 : Index := Scalar.indexCast v382
  let c0_520 : Index := 0#32
  ![0, v503.toNat, 4, v504.toNat, 0]
def k0_off691 (v330 : BitVec 32) : Fin 5 → Nat :=
  let c0_521 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v508 : Index := Scalar.indexCast v347
  let c5 : Index := 5#32
  let c0_522 : Index := 0#32
  let c0_523 : Index := 0#32
  ![0, v508.toNat, 5, 0, 0]
def k0_off692 (v1 : BitVec 32) (k0_t34 : Fin (k0_t34_loop v1).trips) (v228 : BitVec 32) (v257 : BitVec 32) (k0_t38 : Fin (k0_t38_loop v228 v257).trips) : Fin 5 → Nat :=
  let c0_526 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v525 : Index := Scalar.indexCast v226
  let c5_527 : Index := 5#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v526 : Index := Scalar.indexCast v382
  let c0_528 : Index := 0#32
  ![0, v525.toNat, 5, v526.toNat, 0]
def k0_off693 (v1 : BitVec 32) (k0_t34 : Fin (k0_t34_loop v1).trips) (v228 : BitVec 32) (v257 : BitVec 32) (k0_t38 : Fin (k0_t38_loop v228 v257).trips) : Fin 5 → Nat :=
  let c0_529 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v530 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v531 : Index := Scalar.indexCast arg19
  let c96 : Index := 96#32
  let c0_530 : Index := 0#32
  ![0, v530.toNat, v531.toNat, 96, 0]
def k0_off694 (v330 : BitVec 32) : Fin 5 → Nat :=
  let c0_531 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v535 : Index := Scalar.indexCast v347
  let c6 : Index := 6#32
  let c0_532 : Index := 0#32
  let c0_533 : Index := 0#32
  ![0, v535.toNat, 6, 0, 0]
def k0_off695 (v1 : BitVec 32) (k0_t34 : Fin (k0_t34_loop v1).trips) (v228 : BitVec 32) (v257 : BitVec 32) (k0_t38 : Fin (k0_t38_loop v228 v257).trips) : Fin 5 → Nat :=
  let c0_536 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v552 : Index := Scalar.indexCast v226
  let c6_537 : Index := 6#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v553 : Index := Scalar.indexCast v382
  let c0_538 : Index := 0#32
  ![0, v552.toNat, 6, v553.toNat, 0]
def k0_off696 (v330 : BitVec 32) : Fin 5 → Nat :=
  let c0_539 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v557 : Index := Scalar.indexCast v347
  let c7 : Index := 7#32
  let c0_540 : Index := 0#32
  let c0_541 : Index := 0#32
  ![0, v557.toNat, 7, 0, 0]
def k0_off697 (v1 : BitVec 32) (k0_t34 : Fin (k0_t34_loop v1).trips) (v228 : BitVec 32) (v257 : BitVec 32) (k0_t38 : Fin (k0_t38_loop v228 v257).trips) : Fin 5 → Nat :=
  let c0_544 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v574 : Index := Scalar.indexCast v226
  let c7_545 : Index := 7#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v575 : Index := Scalar.indexCast v382
  let c0_546 : Index := 0#32
  ![0, v574.toNat, 7, v575.toNat, 0]
def k0_off698 (v1 : BitVec 32) (k0_t34 : Fin (k0_t34_loop v1).trips) (v228 : BitVec 32) (v257 : BitVec 32) (k0_t38 : Fin (k0_t38_loop v228 v257).trips) : Fin 5 → Nat :=
  let c0_547 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v579 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v580 : Index := Scalar.indexCast arg19
  let c128 : Index := 128#32
  let c0_548 : Index := 0#32
  ![0, v579.toNat, v580.toNat, 128, 0]
def k0_off699 (v330 : BitVec 32) : Fin 5 → Nat :=
  let c0_549 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v584 : Index := Scalar.indexCast v347
  let c8 : Index := 8#32
  let c0_550 : Index := 0#32
  let c0_551 : Index := 0#32
  ![0, v584.toNat, 8, 0, 0]
def k0_off700 (v1 : BitVec 32) (k0_t34 : Fin (k0_t34_loop v1).trips) (v228 : BitVec 32) (v257 : BitVec 32) (k0_t38 : Fin (k0_t38_loop v228 v257).trips) : Fin 5 → Nat :=
  let c0_554 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v601 : Index := Scalar.indexCast v226
  let c8_555 : Index := 8#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v602 : Index := Scalar.indexCast v382
  let c0_556 : Index := 0#32
  ![0, v601.toNat, 8, v602.toNat, 0]
def k0_off701 (v330 : BitVec 32) : Fin 5 → Nat :=
  let c0_557 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v606 : Index := Scalar.indexCast v347
  let c9 : Index := 9#32
  let c0_558 : Index := 0#32
  let c0_559 : Index := 0#32
  ![0, v606.toNat, 9, 0, 0]
def k0_off702 (v1 : BitVec 32) (k0_t34 : Fin (k0_t34_loop v1).trips) (v228 : BitVec 32) (v257 : BitVec 32) (k0_t38 : Fin (k0_t38_loop v228 v257).trips) : Fin 5 → Nat :=
  let c0_562 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v623 : Index := Scalar.indexCast v226
  let c9_563 : Index := 9#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v624 : Index := Scalar.indexCast v382
  let c0_564 : Index := 0#32
  ![0, v623.toNat, 9, v624.toNat, 0]
def k0_off703 (v1 : BitVec 32) (k0_t34 : Fin (k0_t34_loop v1).trips) (v228 : BitVec 32) (v257 : BitVec 32) (k0_t38 : Fin (k0_t38_loop v228 v257).trips) : Fin 5 → Nat :=
  let c0_565 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v628 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v629 : Index := Scalar.indexCast arg19
  let c160 : Index := 160#32
  let c0_566 : Index := 0#32
  ![0, v628.toNat, v629.toNat, 160, 0]
def k0_off704 (v330 : BitVec 32) : Fin 5 → Nat :=
  let c0_567 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v633 : Index := Scalar.indexCast v347
  let c10 : Index := 10#32
  let c0_568 : Index := 0#32
  let c0_569 : Index := 0#32
  ![0, v633.toNat, 10, 0, 0]
def k0_off705 (v1 : BitVec 32) (k0_t34 : Fin (k0_t34_loop v1).trips) (v228 : BitVec 32) (v257 : BitVec 32) (k0_t38 : Fin (k0_t38_loop v228 v257).trips) : Fin 5 → Nat :=
  let c0_572 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v650 : Index := Scalar.indexCast v226
  let c10_573 : Index := 10#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v651 : Index := Scalar.indexCast v382
  let c0_574 : Index := 0#32
  ![0, v650.toNat, 10, v651.toNat, 0]
def k0_off706 (v330 : BitVec 32) : Fin 5 → Nat :=
  let c0_575 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v655 : Index := Scalar.indexCast v347
  let c11 : Index := 11#32
  let c0_576 : Index := 0#32
  let c0_577 : Index := 0#32
  ![0, v655.toNat, 11, 0, 0]
def k0_off707 (v1 : BitVec 32) (k0_t34 : Fin (k0_t34_loop v1).trips) (v228 : BitVec 32) (v257 : BitVec 32) (k0_t38 : Fin (k0_t38_loop v228 v257).trips) : Fin 5 → Nat :=
  let c0_580 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v672 : Index := Scalar.indexCast v226
  let c11_581 : Index := 11#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v673 : Index := Scalar.indexCast v382
  let c0_582 : Index := 0#32
  ![0, v672.toNat, 11, v673.toNat, 0]
def k0_off708 (v1 : BitVec 32) (k0_t34 : Fin (k0_t34_loop v1).trips) (v228 : BitVec 32) (v257 : BitVec 32) (k0_t38 : Fin (k0_t38_loop v228 v257).trips) : Fin 5 → Nat :=
  let c0_583 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v677 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v678 : Index := Scalar.indexCast arg19
  let c192 : Index := 192#32
  let c0_584 : Index := 0#32
  ![0, v677.toNat, v678.toNat, 192, 0]
def k0_off709 (v330 : BitVec 32) : Fin 5 → Nat :=
  let c0_585 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v682 : Index := Scalar.indexCast v347
  let c12 : Index := 12#32
  let c0_586 : Index := 0#32
  let c0_587 : Index := 0#32
  ![0, v682.toNat, 12, 0, 0]
def k0_off710 (v1 : BitVec 32) (k0_t34 : Fin (k0_t34_loop v1).trips) (v228 : BitVec 32) (v257 : BitVec 32) (k0_t38 : Fin (k0_t38_loop v228 v257).trips) : Fin 5 → Nat :=
  let c0_590 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v699 : Index := Scalar.indexCast v226
  let c12_591 : Index := 12#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v700 : Index := Scalar.indexCast v382
  let c0_592 : Index := 0#32
  ![0, v699.toNat, 12, v700.toNat, 0]
def k0_off711 (v330 : BitVec 32) : Fin 5 → Nat :=
  let c0_593 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v704 : Index := Scalar.indexCast v347
  let c13 : Index := 13#32
  let c0_594 : Index := 0#32
  let c0_595 : Index := 0#32
  ![0, v704.toNat, 13, 0, 0]
def k0_off712 (v1 : BitVec 32) (k0_t34 : Fin (k0_t34_loop v1).trips) (v228 : BitVec 32) (v257 : BitVec 32) (k0_t38 : Fin (k0_t38_loop v228 v257).trips) : Fin 5 → Nat :=
  let c0_598 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v721 : Index := Scalar.indexCast v226
  let c13_599 : Index := 13#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v722 : Index := Scalar.indexCast v382
  let c0_600 : Index := 0#32
  ![0, v721.toNat, 13, v722.toNat, 0]
def k0_off713 (v1 : BitVec 32) (k0_t34 : Fin (k0_t34_loop v1).trips) (v228 : BitVec 32) (v257 : BitVec 32) (k0_t38 : Fin (k0_t38_loop v228 v257).trips) : Fin 5 → Nat :=
  let c0_601 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v726 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v727 : Index := Scalar.indexCast arg19
  let c224 : Index := 224#32
  let c0_602 : Index := 0#32
  ![0, v726.toNat, v727.toNat, 224, 0]
def k0_off714 (v330 : BitVec 32) : Fin 5 → Nat :=
  let c0_603 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v731 : Index := Scalar.indexCast v347
  let c14 : Index := 14#32
  let c0_604 : Index := 0#32
  let c0_605 : Index := 0#32
  ![0, v731.toNat, 14, 0, 0]
def k0_off715 (v1 : BitVec 32) (k0_t34 : Fin (k0_t34_loop v1).trips) (v228 : BitVec 32) (v257 : BitVec 32) (k0_t38 : Fin (k0_t38_loop v228 v257).trips) : Fin 5 → Nat :=
  let c0_608 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v748 : Index := Scalar.indexCast v226
  let c14_609 : Index := 14#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v749 : Index := Scalar.indexCast v382
  let c0_610 : Index := 0#32
  ![0, v748.toNat, 14, v749.toNat, 0]
def k0_off716 (v330 : BitVec 32) : Fin 5 → Nat :=
  let c0_611 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v753 : Index := Scalar.indexCast v347
  let c15 : Index := 15#32
  let c0_612 : Index := 0#32
  let c0_613 : Index := 0#32
  ![0, v753.toNat, 15, 0, 0]
def k0_off717 (v1 : BitVec 32) (k0_t34 : Fin (k0_t34_loop v1).trips) (v228 : BitVec 32) (v257 : BitVec 32) (k0_t38 : Fin (k0_t38_loop v228 v257).trips) : Fin 5 → Nat :=
  let c0_616 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v770 : Index := Scalar.indexCast v226
  let c15_617 : Index := 15#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v771 : Index := Scalar.indexCast v382
  let c0_618 : Index := 0#32
  ![0, v770.toNat, 15, v771.toNat, 0]
def k0_off718 (v1 : BitVec 32) (k0_t34 : Fin (k0_t34_loop v1).trips) (v228 : BitVec 32) (v257 : BitVec 32) (k0_t38 : Fin (k0_t38_loop v228 v257).trips) : Fin 5 → Nat :=
  let c0_619 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v775 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v776 : Index := Scalar.indexCast arg19
  let c256 : Index := 256#32
  let c0_620 : Index := 0#32
  ![0, v775.toNat, v776.toNat, 256, 0]
def k0_off719 (v330 : BitVec 32) : Fin 5 → Nat :=
  let c0_621 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v780 : Index := Scalar.indexCast v347
  let c16 : Index := 16#32
  let c0_622 : Index := 0#32
  let c0_623 : Index := 0#32
  ![0, v780.toNat, 16, 0, 0]
def k0_off720 (v1 : BitVec 32) (k0_t34 : Fin (k0_t34_loop v1).trips) (v228 : BitVec 32) (v257 : BitVec 32) (k0_t38 : Fin (k0_t38_loop v228 v257).trips) : Fin 5 → Nat :=
  let c0_626 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v797 : Index := Scalar.indexCast v226
  let c16_627 : Index := 16#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v798 : Index := Scalar.indexCast v382
  let c0_628 : Index := 0#32
  ![0, v797.toNat, 16, v798.toNat, 0]
def k0_off721 (v330 : BitVec 32) : Fin 5 → Nat :=
  let c0_629 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v802 : Index := Scalar.indexCast v347
  let c17 : Index := 17#32
  let c0_630 : Index := 0#32
  let c0_631 : Index := 0#32
  ![0, v802.toNat, 17, 0, 0]
def k0_off722 (v1 : BitVec 32) (k0_t34 : Fin (k0_t34_loop v1).trips) (v228 : BitVec 32) (v257 : BitVec 32) (k0_t38 : Fin (k0_t38_loop v228 v257).trips) : Fin 5 → Nat :=
  let c0_634 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v819 : Index := Scalar.indexCast v226
  let c17_635 : Index := 17#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v820 : Index := Scalar.indexCast v382
  let c0_636 : Index := 0#32
  ![0, v819.toNat, 17, v820.toNat, 0]
def k0_off723 (v1 : BitVec 32) (k0_t34 : Fin (k0_t34_loop v1).trips) (v228 : BitVec 32) (v257 : BitVec 32) (k0_t38 : Fin (k0_t38_loop v228 v257).trips) : Fin 5 → Nat :=
  let c0_637 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v824 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v825 : Index := Scalar.indexCast arg19
  let c288 : Index := 288#32
  let c0_638 : Index := 0#32
  ![0, v824.toNat, v825.toNat, 288, 0]
def k0_off724 (v330 : BitVec 32) : Fin 5 → Nat :=
  let c0_639 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v829 : Index := Scalar.indexCast v347
  let c18 : Index := 18#32
  let c0_640 : Index := 0#32
  let c0_641 : Index := 0#32
  ![0, v829.toNat, 18, 0, 0]
def k0_off725 (v1 : BitVec 32) (k0_t34 : Fin (k0_t34_loop v1).trips) (v228 : BitVec 32) (v257 : BitVec 32) (k0_t38 : Fin (k0_t38_loop v228 v257).trips) : Fin 5 → Nat :=
  let c0_644 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v846 : Index := Scalar.indexCast v226
  let c18_645 : Index := 18#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v847 : Index := Scalar.indexCast v382
  let c0_646 : Index := 0#32
  ![0, v846.toNat, 18, v847.toNat, 0]
def k0_off726 (v330 : BitVec 32) : Fin 5 → Nat :=
  let c0_647 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v851 : Index := Scalar.indexCast v347
  let c19 : Index := 19#32
  let c0_648 : Index := 0#32
  let c0_649 : Index := 0#32
  ![0, v851.toNat, 19, 0, 0]
def k0_off727 (v1 : BitVec 32) (k0_t34 : Fin (k0_t34_loop v1).trips) (v228 : BitVec 32) (v257 : BitVec 32) (k0_t38 : Fin (k0_t38_loop v228 v257).trips) : Fin 5 → Nat :=
  let c0_652 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v868 : Index := Scalar.indexCast v226
  let c19_653 : Index := 19#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v869 : Index := Scalar.indexCast v382
  let c0_654 : Index := 0#32
  ![0, v868.toNat, 19, v869.toNat, 0]
def k0_off728 (v1 : BitVec 32) (k0_t34 : Fin (k0_t34_loop v1).trips) (v228 : BitVec 32) (v257 : BitVec 32) (k0_t38 : Fin (k0_t38_loop v228 v257).trips) : Fin 5 → Nat :=
  let c0_655 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v873 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v874 : Index := Scalar.indexCast arg19
  let c320 : Index := 320#32
  let c0_656 : Index := 0#32
  ![0, v873.toNat, v874.toNat, 320, 0]
def k0_off729 (v330 : BitVec 32) : Fin 5 → Nat :=
  let c0_657 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v878 : Index := Scalar.indexCast v347
  let c20 : Index := 20#32
  let c0_658 : Index := 0#32
  let c0_659 : Index := 0#32
  ![0, v878.toNat, 20, 0, 0]
def k0_off730 (v1 : BitVec 32) (k0_t34 : Fin (k0_t34_loop v1).trips) (v228 : BitVec 32) (v257 : BitVec 32) (k0_t38 : Fin (k0_t38_loop v228 v257).trips) : Fin 5 → Nat :=
  let c0_662 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v895 : Index := Scalar.indexCast v226
  let c20_663 : Index := 20#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v896 : Index := Scalar.indexCast v382
  let c0_664 : Index := 0#32
  ![0, v895.toNat, 20, v896.toNat, 0]
def k0_off731 (v330 : BitVec 32) : Fin 5 → Nat :=
  let c0_665 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v900 : Index := Scalar.indexCast v347
  let c21 : Index := 21#32
  let c0_666 : Index := 0#32
  let c0_667 : Index := 0#32
  ![0, v900.toNat, 21, 0, 0]
def k0_off732 (v1 : BitVec 32) (k0_t34 : Fin (k0_t34_loop v1).trips) (v228 : BitVec 32) (v257 : BitVec 32) (k0_t38 : Fin (k0_t38_loop v228 v257).trips) : Fin 5 → Nat :=
  let c0_670 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v917 : Index := Scalar.indexCast v226
  let c21_671 : Index := 21#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v918 : Index := Scalar.indexCast v382
  let c0_672 : Index := 0#32
  ![0, v917.toNat, 21, v918.toNat, 0]
def k0_off733 (v1 : BitVec 32) (k0_t34 : Fin (k0_t34_loop v1).trips) (v228 : BitVec 32) (v257 : BitVec 32) (k0_t38 : Fin (k0_t38_loop v228 v257).trips) : Fin 5 → Nat :=
  let c0_673 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v922 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v923 : Index := Scalar.indexCast arg19
  let c352 : Index := 352#32
  let c0_674 : Index := 0#32
  ![0, v922.toNat, v923.toNat, 352, 0]
def k0_off734 (v330 : BitVec 32) : Fin 5 → Nat :=
  let c0_675 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v927 : Index := Scalar.indexCast v347
  let c22 : Index := 22#32
  let c0_676 : Index := 0#32
  let c0_677 : Index := 0#32
  ![0, v927.toNat, 22, 0, 0]
def k0_off735 (v1 : BitVec 32) (k0_t34 : Fin (k0_t34_loop v1).trips) (v228 : BitVec 32) (v257 : BitVec 32) (k0_t38 : Fin (k0_t38_loop v228 v257).trips) : Fin 5 → Nat :=
  let c0_680 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v944 : Index := Scalar.indexCast v226
  let c22_681 : Index := 22#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v945 : Index := Scalar.indexCast v382
  let c0_682 : Index := 0#32
  ![0, v944.toNat, 22, v945.toNat, 0]
def k0_off736 (v330 : BitVec 32) : Fin 5 → Nat :=
  let c0_683 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v949 : Index := Scalar.indexCast v347
  let c23 : Index := 23#32
  let c0_684 : Index := 0#32
  let c0_685 : Index := 0#32
  ![0, v949.toNat, 23, 0, 0]
def k0_off737 (v1 : BitVec 32) (k0_t34 : Fin (k0_t34_loop v1).trips) (v228 : BitVec 32) (v257 : BitVec 32) (k0_t38 : Fin (k0_t38_loop v228 v257).trips) : Fin 5 → Nat :=
  let c0_688 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v966 : Index := Scalar.indexCast v226
  let c23_689 : Index := 23#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v967 : Index := Scalar.indexCast v382
  let c0_690 : Index := 0#32
  ![0, v966.toNat, 23, v967.toNat, 0]
def k0_off738 (v1 : BitVec 32) (k0_t34 : Fin (k0_t34_loop v1).trips) (v228 : BitVec 32) (v257 : BitVec 32) (k0_t38 : Fin (k0_t38_loop v228 v257).trips) : Fin 5 → Nat :=
  let c0_691 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v971 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v972 : Index := Scalar.indexCast arg19
  let c384 : Index := 384#32
  let c0_692 : Index := 0#32
  ![0, v971.toNat, v972.toNat, 384, 0]
def k0_off739 (v330 : BitVec 32) : Fin 5 → Nat :=
  let c0_693 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v976 : Index := Scalar.indexCast v347
  let c24 : Index := 24#32
  let c0_694 : Index := 0#32
  let c0_695 : Index := 0#32
  ![0, v976.toNat, 24, 0, 0]
def k0_off740 (v1 : BitVec 32) (k0_t34 : Fin (k0_t34_loop v1).trips) (v228 : BitVec 32) (v257 : BitVec 32) (k0_t38 : Fin (k0_t38_loop v228 v257).trips) : Fin 5 → Nat :=
  let c0_698 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v993 : Index := Scalar.indexCast v226
  let c24_699 : Index := 24#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v994 : Index := Scalar.indexCast v382
  let c0_700 : Index := 0#32
  ![0, v993.toNat, 24, v994.toNat, 0]
def k0_off741 (v330 : BitVec 32) : Fin 5 → Nat :=
  let c0_701 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v998 : Index := Scalar.indexCast v347
  let c25 : Index := 25#32
  let c0_702 : Index := 0#32
  let c0_703 : Index := 0#32
  ![0, v998.toNat, 25, 0, 0]
def k0_off742 (v1 : BitVec 32) (k0_t34 : Fin (k0_t34_loop v1).trips) (v228 : BitVec 32) (v257 : BitVec 32) (k0_t38 : Fin (k0_t38_loop v228 v257).trips) : Fin 5 → Nat :=
  let c0_706 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1015 : Index := Scalar.indexCast v226
  let c25_707 : Index := 25#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1016 : Index := Scalar.indexCast v382
  let c0_708 : Index := 0#32
  ![0, v1015.toNat, 25, v1016.toNat, 0]
def k0_off743 (v1 : BitVec 32) (k0_t34 : Fin (k0_t34_loop v1).trips) (v228 : BitVec 32) (v257 : BitVec 32) (k0_t38 : Fin (k0_t38_loop v228 v257).trips) : Fin 5 → Nat :=
  let c0_709 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1020 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v1021 : Index := Scalar.indexCast arg19
  let c416 : Index := 416#32
  let c0_710 : Index := 0#32
  ![0, v1020.toNat, v1021.toNat, 416, 0]
def k0_off744 (v330 : BitVec 32) : Fin 5 → Nat :=
  let c0_711 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1025 : Index := Scalar.indexCast v347
  let c26 : Index := 26#32
  let c0_712 : Index := 0#32
  let c0_713 : Index := 0#32
  ![0, v1025.toNat, 26, 0, 0]
def k0_off745 (v1 : BitVec 32) (k0_t34 : Fin (k0_t34_loop v1).trips) (v228 : BitVec 32) (v257 : BitVec 32) (k0_t38 : Fin (k0_t38_loop v228 v257).trips) : Fin 5 → Nat :=
  let c0_716 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1042 : Index := Scalar.indexCast v226
  let c26_717 : Index := 26#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1043 : Index := Scalar.indexCast v382
  let c0_718 : Index := 0#32
  ![0, v1042.toNat, 26, v1043.toNat, 0]
def k0_off746 (v330 : BitVec 32) : Fin 5 → Nat :=
  let c0_719 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1047 : Index := Scalar.indexCast v347
  let c27 : Index := 27#32
  let c0_720 : Index := 0#32
  let c0_721 : Index := 0#32
  ![0, v1047.toNat, 27, 0, 0]
def k0_off747 (v1 : BitVec 32) (k0_t34 : Fin (k0_t34_loop v1).trips) (v228 : BitVec 32) (v257 : BitVec 32) (k0_t38 : Fin (k0_t38_loop v228 v257).trips) : Fin 5 → Nat :=
  let c0_724 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1064 : Index := Scalar.indexCast v226
  let c27_725 : Index := 27#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1065 : Index := Scalar.indexCast v382
  let c0_726 : Index := 0#32
  ![0, v1064.toNat, 27, v1065.toNat, 0]
def k0_off748 (v1 : BitVec 32) (k0_t34 : Fin (k0_t34_loop v1).trips) (v228 : BitVec 32) (v257 : BitVec 32) (k0_t38 : Fin (k0_t38_loop v228 v257).trips) : Fin 5 → Nat :=
  let c0_727 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1069 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v1070 : Index := Scalar.indexCast arg19
  let c448 : Index := 448#32
  let c0_728 : Index := 0#32
  ![0, v1069.toNat, v1070.toNat, 448, 0]
def k0_off749 (v330 : BitVec 32) : Fin 5 → Nat :=
  let c0_729 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1074 : Index := Scalar.indexCast v347
  let c28 : Index := 28#32
  let c0_730 : Index := 0#32
  let c0_731 : Index := 0#32
  ![0, v1074.toNat, 28, 0, 0]
def k0_off750 (v1 : BitVec 32) (k0_t34 : Fin (k0_t34_loop v1).trips) (v228 : BitVec 32) (v257 : BitVec 32) (k0_t38 : Fin (k0_t38_loop v228 v257).trips) : Fin 5 → Nat :=
  let c0_734 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1091 : Index := Scalar.indexCast v226
  let c28_735 : Index := 28#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1092 : Index := Scalar.indexCast v382
  let c0_736 : Index := 0#32
  ![0, v1091.toNat, 28, v1092.toNat, 0]
def k0_off751 (v330 : BitVec 32) : Fin 5 → Nat :=
  let c0_737 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1096 : Index := Scalar.indexCast v347
  let c29 : Index := 29#32
  let c0_738 : Index := 0#32
  let c0_739 : Index := 0#32
  ![0, v1096.toNat, 29, 0, 0]
def k0_off752 (v1 : BitVec 32) (k0_t34 : Fin (k0_t34_loop v1).trips) (v228 : BitVec 32) (v257 : BitVec 32) (k0_t38 : Fin (k0_t38_loop v228 v257).trips) : Fin 5 → Nat :=
  let c0_742 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1113 : Index := Scalar.indexCast v226
  let c29_743 : Index := 29#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1114 : Index := Scalar.indexCast v382
  let c0_744 : Index := 0#32
  ![0, v1113.toNat, 29, v1114.toNat, 0]
def k0_off753 (v1 : BitVec 32) (k0_t34 : Fin (k0_t34_loop v1).trips) (v228 : BitVec 32) (v257 : BitVec 32) (k0_t38 : Fin (k0_t38_loop v228 v257).trips) : Fin 5 → Nat :=
  let c0_745 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1118 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v1119 : Index := Scalar.indexCast arg19
  let c480 : Index := 480#32
  let c0_746 : Index := 0#32
  ![0, v1118.toNat, v1119.toNat, 480, 0]
def k0_off754 (v330 : BitVec 32) : Fin 5 → Nat :=
  let c0_747 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1123 : Index := Scalar.indexCast v347
  let c30 : Index := 30#32
  let c0_748 : Index := 0#32
  let c0_749 : Index := 0#32
  ![0, v1123.toNat, 30, 0, 0]
def k0_off755 (v1 : BitVec 32) (k0_t34 : Fin (k0_t34_loop v1).trips) (v228 : BitVec 32) (v257 : BitVec 32) (k0_t38 : Fin (k0_t38_loop v228 v257).trips) : Fin 5 → Nat :=
  let c0_752 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1140 : Index := Scalar.indexCast v226
  let c30_753 : Index := 30#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1141 : Index := Scalar.indexCast v382
  let c0_754 : Index := 0#32
  ![0, v1140.toNat, 30, v1141.toNat, 0]
def k0_off756 (v330 : BitVec 32) : Fin 5 → Nat :=
  let c0_755 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1145 : Index := Scalar.indexCast v347
  let c31 : Index := 31#32
  let c0_756 : Index := 0#32
  let c0_757 : Index := 0#32
  ![0, v1145.toNat, 31, 0, 0]
def k0_off757 (v1 : BitVec 32) (k0_t34 : Fin (k0_t34_loop v1).trips) (v228 : BitVec 32) (v257 : BitVec 32) (k0_t38 : Fin (k0_t38_loop v228 v257).trips) : Fin 5 → Nat :=
  let c0_760 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1162 : Index := Scalar.indexCast v226
  let c31_761 : Index := 31#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1163 : Index := Scalar.indexCast v382
  let c0_762 : Index := 0#32
  ![0, v1162.toNat, 31, v1163.toNat, 0]
def k0_off758 (v1 : BitVec 32) (k0_t34 : Fin (k0_t34_loop v1).trips) (v228 : BitVec 32) (v257 : BitVec 32) (k0_t38 : Fin (k0_t38_loop v228 v257).trips) : Fin 5 → Nat :=
  let c0_763 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1167 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v1168 : Index := Scalar.indexCast arg19
  let c512 : Index := 512#32
  let c0_764 : Index := 0#32
  ![0, v1167.toNat, v1168.toNat, 512, 0]
def k0_off759 (v330 : BitVec 32) : Fin 5 → Nat :=
  let c0_765 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1172 : Index := Scalar.indexCast v347
  let c32_766 : Index := 32#32
  let c0_767 : Index := 0#32
  let c0_768 : Index := 0#32
  ![0, v1172.toNat, 32, 0, 0]
def k0_off760 (v1 : BitVec 32) (k0_t34 : Fin (k0_t34_loop v1).trips) (v228 : BitVec 32) (v257 : BitVec 32) (k0_t38 : Fin (k0_t38_loop v228 v257).trips) : Fin 5 → Nat :=
  let c0_771 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1189 : Index := Scalar.indexCast v226
  let c32_772 : Index := 32#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1190 : Index := Scalar.indexCast v382
  let c0_773 : Index := 0#32
  ![0, v1189.toNat, 32, v1190.toNat, 0]
def k0_off761 (v330 : BitVec 32) : Fin 5 → Nat :=
  let c0_774 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1194 : Index := Scalar.indexCast v347
  let c33 : Index := 33#32
  let c0_775 : Index := 0#32
  let c0_776 : Index := 0#32
  ![0, v1194.toNat, 33, 0, 0]
def k0_off762 (v1 : BitVec 32) (k0_t34 : Fin (k0_t34_loop v1).trips) (v228 : BitVec 32) (v257 : BitVec 32) (k0_t38 : Fin (k0_t38_loop v228 v257).trips) : Fin 5 → Nat :=
  let c0_779 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1211 : Index := Scalar.indexCast v226
  let c33_780 : Index := 33#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1212 : Index := Scalar.indexCast v382
  let c0_781 : Index := 0#32
  ![0, v1211.toNat, 33, v1212.toNat, 0]
def k0_off763 (v1 : BitVec 32) (k0_t34 : Fin (k0_t34_loop v1).trips) (v228 : BitVec 32) (v257 : BitVec 32) (k0_t38 : Fin (k0_t38_loop v228 v257).trips) : Fin 5 → Nat :=
  let c0_782 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1216 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v1217 : Index := Scalar.indexCast arg19
  let c544 : Index := 544#32
  let c0_783 : Index := 0#32
  ![0, v1216.toNat, v1217.toNat, 544, 0]
def k0_off764 (v330 : BitVec 32) : Fin 5 → Nat :=
  let c0_784 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1221 : Index := Scalar.indexCast v347
  let c34 : Index := 34#32
  let c0_785 : Index := 0#32
  let c0_786 : Index := 0#32
  ![0, v1221.toNat, 34, 0, 0]
def k0_off765 (v1 : BitVec 32) (k0_t34 : Fin (k0_t34_loop v1).trips) (v228 : BitVec 32) (v257 : BitVec 32) (k0_t38 : Fin (k0_t38_loop v228 v257).trips) : Fin 5 → Nat :=
  let c0_789 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1238 : Index := Scalar.indexCast v226
  let c34_790 : Index := 34#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1239 : Index := Scalar.indexCast v382
  let c0_791 : Index := 0#32
  ![0, v1238.toNat, 34, v1239.toNat, 0]
def k0_off766 (v330 : BitVec 32) : Fin 5 → Nat :=
  let c0_792 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1243 : Index := Scalar.indexCast v347
  let c35 : Index := 35#32
  let c0_793 : Index := 0#32
  let c0_794 : Index := 0#32
  ![0, v1243.toNat, 35, 0, 0]
def k0_off767 (v1 : BitVec 32) (k0_t34 : Fin (k0_t34_loop v1).trips) (v228 : BitVec 32) (v257 : BitVec 32) (k0_t38 : Fin (k0_t38_loop v228 v257).trips) : Fin 5 → Nat :=
  let c0_797 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1260 : Index := Scalar.indexCast v226
  let c35_798 : Index := 35#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1261 : Index := Scalar.indexCast v382
  let c0_799 : Index := 0#32
  ![0, v1260.toNat, 35, v1261.toNat, 0]
def k0_off768 (v1 : BitVec 32) (k0_t34 : Fin (k0_t34_loop v1).trips) (v228 : BitVec 32) (v257 : BitVec 32) (k0_t38 : Fin (k0_t38_loop v228 v257).trips) : Fin 5 → Nat :=
  let c0_800 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1265 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v1266 : Index := Scalar.indexCast arg19
  let c576 : Index := 576#32
  let c0_801 : Index := 0#32
  ![0, v1265.toNat, v1266.toNat, 576, 0]
def k0_off769 (v330 : BitVec 32) : Fin 5 → Nat :=
  let c0_802 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1270 : Index := Scalar.indexCast v347
  let c36 : Index := 36#32
  let c0_803 : Index := 0#32
  let c0_804 : Index := 0#32
  ![0, v1270.toNat, 36, 0, 0]
def k0_off770 (v1 : BitVec 32) (k0_t34 : Fin (k0_t34_loop v1).trips) (v228 : BitVec 32) (v257 : BitVec 32) (k0_t38 : Fin (k0_t38_loop v228 v257).trips) : Fin 5 → Nat :=
  let c0_807 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1287 : Index := Scalar.indexCast v226
  let c36_808 : Index := 36#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1288 : Index := Scalar.indexCast v382
  let c0_809 : Index := 0#32
  ![0, v1287.toNat, 36, v1288.toNat, 0]
def k0_off771 (v330 : BitVec 32) : Fin 5 → Nat :=
  let c0_810 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1292 : Index := Scalar.indexCast v347
  let c37 : Index := 37#32
  let c0_811 : Index := 0#32
  let c0_812 : Index := 0#32
  ![0, v1292.toNat, 37, 0, 0]
def k0_off772 (v1 : BitVec 32) (k0_t34 : Fin (k0_t34_loop v1).trips) (v228 : BitVec 32) (v257 : BitVec 32) (k0_t38 : Fin (k0_t38_loop v228 v257).trips) : Fin 5 → Nat :=
  let c0_815 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1309 : Index := Scalar.indexCast v226
  let c37_816 : Index := 37#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1310 : Index := Scalar.indexCast v382
  let c0_817 : Index := 0#32
  ![0, v1309.toNat, 37, v1310.toNat, 0]
def k0_off773 (v1 : BitVec 32) (k0_t34 : Fin (k0_t34_loop v1).trips) (v228 : BitVec 32) (v257 : BitVec 32) (k0_t38 : Fin (k0_t38_loop v228 v257).trips) : Fin 5 → Nat :=
  let c0_818 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1314 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v1315 : Index := Scalar.indexCast arg19
  let c608 : Index := 608#32
  let c0_819 : Index := 0#32
  ![0, v1314.toNat, v1315.toNat, 608, 0]
def k0_off774 (v330 : BitVec 32) : Fin 5 → Nat :=
  let c0_820 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1319 : Index := Scalar.indexCast v347
  let c38 : Index := 38#32
  let c0_821 : Index := 0#32
  let c0_822 : Index := 0#32
  ![0, v1319.toNat, 38, 0, 0]
def k0_off775 (v1 : BitVec 32) (k0_t34 : Fin (k0_t34_loop v1).trips) (v228 : BitVec 32) (v257 : BitVec 32) (k0_t38 : Fin (k0_t38_loop v228 v257).trips) : Fin 5 → Nat :=
  let c0_825 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1336 : Index := Scalar.indexCast v226
  let c38_826 : Index := 38#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1337 : Index := Scalar.indexCast v382
  let c0_827 : Index := 0#32
  ![0, v1336.toNat, 38, v1337.toNat, 0]
def k0_off776 (v330 : BitVec 32) : Fin 5 → Nat :=
  let c0_828 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1341 : Index := Scalar.indexCast v347
  let c39 : Index := 39#32
  let c0_829 : Index := 0#32
  let c0_830 : Index := 0#32
  ![0, v1341.toNat, 39, 0, 0]
def k0_off777 (v1 : BitVec 32) (k0_t34 : Fin (k0_t34_loop v1).trips) (v228 : BitVec 32) (v257 : BitVec 32) (k0_t38 : Fin (k0_t38_loop v228 v257).trips) : Fin 5 → Nat :=
  let c0_833 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1358 : Index := Scalar.indexCast v226
  let c39_834 : Index := 39#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1359 : Index := Scalar.indexCast v382
  let c0_835 : Index := 0#32
  ![0, v1358.toNat, 39, v1359.toNat, 0]
def k0_off778 (v1 : BitVec 32) (k0_t34 : Fin (k0_t34_loop v1).trips) (v228 : BitVec 32) (v257 : BitVec 32) (k0_t38 : Fin (k0_t38_loop v228 v257).trips) : Fin 5 → Nat :=
  let c0_836 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1363 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v1364 : Index := Scalar.indexCast arg19
  let c640 : Index := 640#32
  let c0_837 : Index := 0#32
  ![0, v1363.toNat, v1364.toNat, 640, 0]
def k0_off779 (v330 : BitVec 32) : Fin 5 → Nat :=
  let c0_838 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1368 : Index := Scalar.indexCast v347
  let c40 : Index := 40#32
  let c0_839 : Index := 0#32
  let c0_840 : Index := 0#32
  ![0, v1368.toNat, 40, 0, 0]
def k0_off780 (v1 : BitVec 32) (k0_t34 : Fin (k0_t34_loop v1).trips) (v228 : BitVec 32) (v257 : BitVec 32) (k0_t38 : Fin (k0_t38_loop v228 v257).trips) : Fin 5 → Nat :=
  let c0_843 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1385 : Index := Scalar.indexCast v226
  let c40_844 : Index := 40#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1386 : Index := Scalar.indexCast v382
  let c0_845 : Index := 0#32
  ![0, v1385.toNat, 40, v1386.toNat, 0]
def k0_off781 (v330 : BitVec 32) : Fin 5 → Nat :=
  let c0_846 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1390 : Index := Scalar.indexCast v347
  let c41 : Index := 41#32
  let c0_847 : Index := 0#32
  let c0_848 : Index := 0#32
  ![0, v1390.toNat, 41, 0, 0]
def k0_off782 (v1 : BitVec 32) (k0_t34 : Fin (k0_t34_loop v1).trips) (v228 : BitVec 32) (v257 : BitVec 32) (k0_t38 : Fin (k0_t38_loop v228 v257).trips) : Fin 5 → Nat :=
  let c0_851 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1407 : Index := Scalar.indexCast v226
  let c41_852 : Index := 41#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1408 : Index := Scalar.indexCast v382
  let c0_853 : Index := 0#32
  ![0, v1407.toNat, 41, v1408.toNat, 0]
def k0_off783 (v1 : BitVec 32) (k0_t34 : Fin (k0_t34_loop v1).trips) (v228 : BitVec 32) (v257 : BitVec 32) (k0_t38 : Fin (k0_t38_loop v228 v257).trips) : Fin 5 → Nat :=
  let c0_854 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1412 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v1413 : Index := Scalar.indexCast arg19
  let c672 : Index := 672#32
  let c0_855 : Index := 0#32
  ![0, v1412.toNat, v1413.toNat, 672, 0]
def k0_off784 (v330 : BitVec 32) : Fin 5 → Nat :=
  let c0_856 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1417 : Index := Scalar.indexCast v347
  let c42 : Index := 42#32
  let c0_857 : Index := 0#32
  let c0_858 : Index := 0#32
  ![0, v1417.toNat, 42, 0, 0]
def k0_off785 (v1 : BitVec 32) (k0_t34 : Fin (k0_t34_loop v1).trips) (v228 : BitVec 32) (v257 : BitVec 32) (k0_t38 : Fin (k0_t38_loop v228 v257).trips) : Fin 5 → Nat :=
  let c0_861 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1434 : Index := Scalar.indexCast v226
  let c42_862 : Index := 42#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1435 : Index := Scalar.indexCast v382
  let c0_863 : Index := 0#32
  ![0, v1434.toNat, 42, v1435.toNat, 0]
def k0_off786 (v330 : BitVec 32) : Fin 5 → Nat :=
  let c0_864 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1439 : Index := Scalar.indexCast v347
  let c43 : Index := 43#32
  let c0_865 : Index := 0#32
  let c0_866 : Index := 0#32
  ![0, v1439.toNat, 43, 0, 0]
def k0_off787 (v1 : BitVec 32) (k0_t34 : Fin (k0_t34_loop v1).trips) (v228 : BitVec 32) (v257 : BitVec 32) (k0_t38 : Fin (k0_t38_loop v228 v257).trips) : Fin 5 → Nat :=
  let c0_869 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1456 : Index := Scalar.indexCast v226
  let c43_870 : Index := 43#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1457 : Index := Scalar.indexCast v382
  let c0_871 : Index := 0#32
  ![0, v1456.toNat, 43, v1457.toNat, 0]
def k0_off788 (v1 : BitVec 32) (k0_t34 : Fin (k0_t34_loop v1).trips) (v228 : BitVec 32) (v257 : BitVec 32) (k0_t38 : Fin (k0_t38_loop v228 v257).trips) : Fin 5 → Nat :=
  let c0_872 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1461 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v1462 : Index := Scalar.indexCast arg19
  let c704 : Index := 704#32
  let c0_873 : Index := 0#32
  ![0, v1461.toNat, v1462.toNat, 704, 0]
def k0_off789 (v330 : BitVec 32) : Fin 5 → Nat :=
  let c0_874 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1466 : Index := Scalar.indexCast v347
  let c44 : Index := 44#32
  let c0_875 : Index := 0#32
  let c0_876 : Index := 0#32
  ![0, v1466.toNat, 44, 0, 0]
def k0_off790 (v1 : BitVec 32) (k0_t34 : Fin (k0_t34_loop v1).trips) (v228 : BitVec 32) (v257 : BitVec 32) (k0_t38 : Fin (k0_t38_loop v228 v257).trips) : Fin 5 → Nat :=
  let c0_879 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1483 : Index := Scalar.indexCast v226
  let c44_880 : Index := 44#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1484 : Index := Scalar.indexCast v382
  let c0_881 : Index := 0#32
  ![0, v1483.toNat, 44, v1484.toNat, 0]
def k0_off791 (v330 : BitVec 32) : Fin 5 → Nat :=
  let c0_882 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1488 : Index := Scalar.indexCast v347
  let c45 : Index := 45#32
  let c0_883 : Index := 0#32
  let c0_884 : Index := 0#32
  ![0, v1488.toNat, 45, 0, 0]
def k0_off792 (v1 : BitVec 32) (k0_t34 : Fin (k0_t34_loop v1).trips) (v228 : BitVec 32) (v257 : BitVec 32) (k0_t38 : Fin (k0_t38_loop v228 v257).trips) : Fin 5 → Nat :=
  let c0_887 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1505 : Index := Scalar.indexCast v226
  let c45_888 : Index := 45#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1506 : Index := Scalar.indexCast v382
  let c0_889 : Index := 0#32
  ![0, v1505.toNat, 45, v1506.toNat, 0]
def k0_off793 (v1 : BitVec 32) (k0_t34 : Fin (k0_t34_loop v1).trips) (v228 : BitVec 32) (v257 : BitVec 32) (k0_t38 : Fin (k0_t38_loop v228 v257).trips) : Fin 5 → Nat :=
  let c0_890 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1510 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v1511 : Index := Scalar.indexCast arg19
  let c736 : Index := 736#32
  let c0_891 : Index := 0#32
  ![0, v1510.toNat, v1511.toNat, 736, 0]
def k0_off794 (v330 : BitVec 32) : Fin 5 → Nat :=
  let c0_892 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1515 : Index := Scalar.indexCast v347
  let c46 : Index := 46#32
  let c0_893 : Index := 0#32
  let c0_894 : Index := 0#32
  ![0, v1515.toNat, 46, 0, 0]
def k0_off795 (v1 : BitVec 32) (k0_t34 : Fin (k0_t34_loop v1).trips) (v228 : BitVec 32) (v257 : BitVec 32) (k0_t38 : Fin (k0_t38_loop v228 v257).trips) : Fin 5 → Nat :=
  let c0_897 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1532 : Index := Scalar.indexCast v226
  let c46_898 : Index := 46#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1533 : Index := Scalar.indexCast v382
  let c0_899 : Index := 0#32
  ![0, v1532.toNat, 46, v1533.toNat, 0]
def k0_off796 (v330 : BitVec 32) : Fin 5 → Nat :=
  let c0_900 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1537 : Index := Scalar.indexCast v347
  let c47 : Index := 47#32
  let c0_901 : Index := 0#32
  let c0_902 : Index := 0#32
  ![0, v1537.toNat, 47, 0, 0]
def k0_off797 (v1 : BitVec 32) (k0_t34 : Fin (k0_t34_loop v1).trips) (v228 : BitVec 32) (v257 : BitVec 32) (k0_t38 : Fin (k0_t38_loop v228 v257).trips) : Fin 5 → Nat :=
  let c0_905 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1554 : Index := Scalar.indexCast v226
  let c47_906 : Index := 47#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1555 : Index := Scalar.indexCast v382
  let c0_907 : Index := 0#32
  ![0, v1554.toNat, 47, v1555.toNat, 0]
def k0_off798 (v1 : BitVec 32) (k0_t34 : Fin (k0_t34_loop v1).trips) (v228 : BitVec 32) (v257 : BitVec 32) (k0_t38 : Fin (k0_t38_loop v228 v257).trips) : Fin 5 → Nat :=
  let c0_908 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1559 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v1560 : Index := Scalar.indexCast arg19
  let c768 : Index := 768#32
  let c0_909 : Index := 0#32
  ![0, v1559.toNat, v1560.toNat, 768, 0]
def k0_off799 (v330 : BitVec 32) : Fin 5 → Nat :=
  let c0_910 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1564 : Index := Scalar.indexCast v347
  let c48 : Index := 48#32
  let c0_911 : Index := 0#32
  let c0_912 : Index := 0#32
  ![0, v1564.toNat, 48, 0, 0]
def k0_off800 (v1 : BitVec 32) (k0_t34 : Fin (k0_t34_loop v1).trips) (v228 : BitVec 32) (v257 : BitVec 32) (k0_t38 : Fin (k0_t38_loop v228 v257).trips) : Fin 5 → Nat :=
  let c0_915 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1581 : Index := Scalar.indexCast v226
  let c48_916 : Index := 48#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1582 : Index := Scalar.indexCast v382
  let c0_917 : Index := 0#32
  ![0, v1581.toNat, 48, v1582.toNat, 0]
def k0_off801 (v330 : BitVec 32) : Fin 5 → Nat :=
  let c0_918 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1586 : Index := Scalar.indexCast v347
  let c49 : Index := 49#32
  let c0_919 : Index := 0#32
  let c0_920 : Index := 0#32
  ![0, v1586.toNat, 49, 0, 0]
def k0_off802 (v1 : BitVec 32) (k0_t34 : Fin (k0_t34_loop v1).trips) (v228 : BitVec 32) (v257 : BitVec 32) (k0_t38 : Fin (k0_t38_loop v228 v257).trips) : Fin 5 → Nat :=
  let c0_923 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1603 : Index := Scalar.indexCast v226
  let c49_924 : Index := 49#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1604 : Index := Scalar.indexCast v382
  let c0_925 : Index := 0#32
  ![0, v1603.toNat, 49, v1604.toNat, 0]
def k0_off803 (v1 : BitVec 32) (k0_t34 : Fin (k0_t34_loop v1).trips) (v228 : BitVec 32) (v257 : BitVec 32) (k0_t38 : Fin (k0_t38_loop v228 v257).trips) : Fin 5 → Nat :=
  let c0_926 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1608 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v1609 : Index := Scalar.indexCast arg19
  let c800 : Index := 800#32
  let c0_927 : Index := 0#32
  ![0, v1608.toNat, v1609.toNat, 800, 0]
def k0_off804 (v330 : BitVec 32) : Fin 5 → Nat :=
  let c0_928 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1613 : Index := Scalar.indexCast v347
  let c50 : Index := 50#32
  let c0_929 : Index := 0#32
  let c0_930 : Index := 0#32
  ![0, v1613.toNat, 50, 0, 0]
def k0_off805 (v1 : BitVec 32) (k0_t34 : Fin (k0_t34_loop v1).trips) (v228 : BitVec 32) (v257 : BitVec 32) (k0_t38 : Fin (k0_t38_loop v228 v257).trips) : Fin 5 → Nat :=
  let c0_933 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1630 : Index := Scalar.indexCast v226
  let c50_934 : Index := 50#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1631 : Index := Scalar.indexCast v382
  let c0_935 : Index := 0#32
  ![0, v1630.toNat, 50, v1631.toNat, 0]
def k0_off806 (v330 : BitVec 32) : Fin 5 → Nat :=
  let c0_936 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1635 : Index := Scalar.indexCast v347
  let c51 : Index := 51#32
  let c0_937 : Index := 0#32
  let c0_938 : Index := 0#32
  ![0, v1635.toNat, 51, 0, 0]
def k0_off807 (v1 : BitVec 32) (k0_t34 : Fin (k0_t34_loop v1).trips) (v228 : BitVec 32) (v257 : BitVec 32) (k0_t38 : Fin (k0_t38_loop v228 v257).trips) : Fin 5 → Nat :=
  let c0_941 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1652 : Index := Scalar.indexCast v226
  let c51_942 : Index := 51#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1653 : Index := Scalar.indexCast v382
  let c0_943 : Index := 0#32
  ![0, v1652.toNat, 51, v1653.toNat, 0]
def k0_off808 (v1 : BitVec 32) (k0_t34 : Fin (k0_t34_loop v1).trips) (v228 : BitVec 32) (v257 : BitVec 32) (k0_t38 : Fin (k0_t38_loop v228 v257).trips) : Fin 5 → Nat :=
  let c0_944 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1657 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v1658 : Index := Scalar.indexCast arg19
  let c832 : Index := 832#32
  let c0_945 : Index := 0#32
  ![0, v1657.toNat, v1658.toNat, 832, 0]
def k0_off809 (v330 : BitVec 32) : Fin 5 → Nat :=
  let c0_946 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1662 : Index := Scalar.indexCast v347
  let c52 : Index := 52#32
  let c0_947 : Index := 0#32
  let c0_948 : Index := 0#32
  ![0, v1662.toNat, 52, 0, 0]
def k0_off810 (v1 : BitVec 32) (k0_t34 : Fin (k0_t34_loop v1).trips) (v228 : BitVec 32) (v257 : BitVec 32) (k0_t38 : Fin (k0_t38_loop v228 v257).trips) : Fin 5 → Nat :=
  let c0_951 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1679 : Index := Scalar.indexCast v226
  let c52_952 : Index := 52#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1680 : Index := Scalar.indexCast v382
  let c0_953 : Index := 0#32
  ![0, v1679.toNat, 52, v1680.toNat, 0]
def k0_off811 (v330 : BitVec 32) : Fin 5 → Nat :=
  let c0_954 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1684 : Index := Scalar.indexCast v347
  let c53 : Index := 53#32
  let c0_955 : Index := 0#32
  let c0_956 : Index := 0#32
  ![0, v1684.toNat, 53, 0, 0]
def k0_off812 (v1 : BitVec 32) (k0_t34 : Fin (k0_t34_loop v1).trips) (v228 : BitVec 32) (v257 : BitVec 32) (k0_t38 : Fin (k0_t38_loop v228 v257).trips) : Fin 5 → Nat :=
  let c0_959 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1701 : Index := Scalar.indexCast v226
  let c53_960 : Index := 53#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1702 : Index := Scalar.indexCast v382
  let c0_961 : Index := 0#32
  ![0, v1701.toNat, 53, v1702.toNat, 0]
def k0_off813 (v1 : BitVec 32) (k0_t34 : Fin (k0_t34_loop v1).trips) (v228 : BitVec 32) (v257 : BitVec 32) (k0_t38 : Fin (k0_t38_loop v228 v257).trips) : Fin 5 → Nat :=
  let c0_962 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1706 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v1707 : Index := Scalar.indexCast arg19
  let c864 : Index := 864#32
  let c0_963 : Index := 0#32
  ![0, v1706.toNat, v1707.toNat, 864, 0]
def k0_off814 (v330 : BitVec 32) : Fin 5 → Nat :=
  let c0_964 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1711 : Index := Scalar.indexCast v347
  let c54 : Index := 54#32
  let c0_965 : Index := 0#32
  let c0_966 : Index := 0#32
  ![0, v1711.toNat, 54, 0, 0]
def k0_off815 (v1 : BitVec 32) (k0_t34 : Fin (k0_t34_loop v1).trips) (v228 : BitVec 32) (v257 : BitVec 32) (k0_t38 : Fin (k0_t38_loop v228 v257).trips) : Fin 5 → Nat :=
  let c0_969 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1728 : Index := Scalar.indexCast v226
  let c54_970 : Index := 54#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1729 : Index := Scalar.indexCast v382
  let c0_971 : Index := 0#32
  ![0, v1728.toNat, 54, v1729.toNat, 0]
def k0_off816 (v330 : BitVec 32) : Fin 5 → Nat :=
  let c0_972 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1733 : Index := Scalar.indexCast v347
  let c55 : Index := 55#32
  let c0_973 : Index := 0#32
  let c0_974 : Index := 0#32
  ![0, v1733.toNat, 55, 0, 0]
def k0_off817 (v1 : BitVec 32) (k0_t34 : Fin (k0_t34_loop v1).trips) (v228 : BitVec 32) (v257 : BitVec 32) (k0_t38 : Fin (k0_t38_loop v228 v257).trips) : Fin 5 → Nat :=
  let c0_977 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1750 : Index := Scalar.indexCast v226
  let c55_978 : Index := 55#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1751 : Index := Scalar.indexCast v382
  let c0_979 : Index := 0#32
  ![0, v1750.toNat, 55, v1751.toNat, 0]
def k0_off818 (v1 : BitVec 32) (k0_t34 : Fin (k0_t34_loop v1).trips) (v228 : BitVec 32) (v257 : BitVec 32) (k0_t38 : Fin (k0_t38_loop v228 v257).trips) : Fin 5 → Nat :=
  let c0_980 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1755 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v1756 : Index := Scalar.indexCast arg19
  let c896 : Index := 896#32
  let c0_981 : Index := 0#32
  ![0, v1755.toNat, v1756.toNat, 896, 0]
def k0_off819 (v330 : BitVec 32) : Fin 5 → Nat :=
  let c0_982 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1760 : Index := Scalar.indexCast v347
  let c56 : Index := 56#32
  let c0_983 : Index := 0#32
  let c0_984 : Index := 0#32
  ![0, v1760.toNat, 56, 0, 0]
def k0_off820 (v1 : BitVec 32) (k0_t34 : Fin (k0_t34_loop v1).trips) (v228 : BitVec 32) (v257 : BitVec 32) (k0_t38 : Fin (k0_t38_loop v228 v257).trips) : Fin 5 → Nat :=
  let c0_987 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1777 : Index := Scalar.indexCast v226
  let c56_988 : Index := 56#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1778 : Index := Scalar.indexCast v382
  let c0_989 : Index := 0#32
  ![0, v1777.toNat, 56, v1778.toNat, 0]
def k0_off821 (v330 : BitVec 32) : Fin 5 → Nat :=
  let c0_990 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1782 : Index := Scalar.indexCast v347
  let c57 : Index := 57#32
  let c0_991 : Index := 0#32
  let c0_992 : Index := 0#32
  ![0, v1782.toNat, 57, 0, 0]
def k0_off822 (v1 : BitVec 32) (k0_t34 : Fin (k0_t34_loop v1).trips) (v228 : BitVec 32) (v257 : BitVec 32) (k0_t38 : Fin (k0_t38_loop v228 v257).trips) : Fin 5 → Nat :=
  let c0_995 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1799 : Index := Scalar.indexCast v226
  let c57_996 : Index := 57#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1800 : Index := Scalar.indexCast v382
  let c0_997 : Index := 0#32
  ![0, v1799.toNat, 57, v1800.toNat, 0]
def k0_off823 (v1 : BitVec 32) (k0_t34 : Fin (k0_t34_loop v1).trips) (v228 : BitVec 32) (v257 : BitVec 32) (k0_t38 : Fin (k0_t38_loop v228 v257).trips) : Fin 5 → Nat :=
  let c0_998 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1804 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v1805 : Index := Scalar.indexCast arg19
  let c928 : Index := 928#32
  let c0_999 : Index := 0#32
  ![0, v1804.toNat, v1805.toNat, 928, 0]
def k0_off824 (v330 : BitVec 32) : Fin 5 → Nat :=
  let c0_1000 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1809 : Index := Scalar.indexCast v347
  let c58 : Index := 58#32
  let c0_1001 : Index := 0#32
  let c0_1002 : Index := 0#32
  ![0, v1809.toNat, 58, 0, 0]
def k0_off825 (v1 : BitVec 32) (k0_t34 : Fin (k0_t34_loop v1).trips) (v228 : BitVec 32) (v257 : BitVec 32) (k0_t38 : Fin (k0_t38_loop v228 v257).trips) : Fin 5 → Nat :=
  let c0_1005 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1826 : Index := Scalar.indexCast v226
  let c58_1006 : Index := 58#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1827 : Index := Scalar.indexCast v382
  let c0_1007 : Index := 0#32
  ![0, v1826.toNat, 58, v1827.toNat, 0]
def k0_off826 (v330 : BitVec 32) : Fin 5 → Nat :=
  let c0_1008 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1831 : Index := Scalar.indexCast v347
  let c59 : Index := 59#32
  let c0_1009 : Index := 0#32
  let c0_1010 : Index := 0#32
  ![0, v1831.toNat, 59, 0, 0]
def k0_off827 (v1 : BitVec 32) (k0_t34 : Fin (k0_t34_loop v1).trips) (v228 : BitVec 32) (v257 : BitVec 32) (k0_t38 : Fin (k0_t38_loop v228 v257).trips) : Fin 5 → Nat :=
  let c0_1013 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1848 : Index := Scalar.indexCast v226
  let c59_1014 : Index := 59#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1849 : Index := Scalar.indexCast v382
  let c0_1015 : Index := 0#32
  ![0, v1848.toNat, 59, v1849.toNat, 0]
def k0_off828 (v1 : BitVec 32) (k0_t34 : Fin (k0_t34_loop v1).trips) (v228 : BitVec 32) (v257 : BitVec 32) (k0_t38 : Fin (k0_t38_loop v228 v257).trips) : Fin 5 → Nat :=
  let c0_1016 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1853 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v1854 : Index := Scalar.indexCast arg19
  let c960 : Index := 960#32
  let c0_1017 : Index := 0#32
  ![0, v1853.toNat, v1854.toNat, 960, 0]
def k0_off829 (v330 : BitVec 32) : Fin 5 → Nat :=
  let c0_1018 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1858 : Index := Scalar.indexCast v347
  let c60 : Index := 60#32
  let c0_1019 : Index := 0#32
  let c0_1020 : Index := 0#32
  ![0, v1858.toNat, 60, 0, 0]
def k0_off830 (v1 : BitVec 32) (k0_t34 : Fin (k0_t34_loop v1).trips) (v228 : BitVec 32) (v257 : BitVec 32) (k0_t38 : Fin (k0_t38_loop v228 v257).trips) : Fin 5 → Nat :=
  let c0_1023 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1875 : Index := Scalar.indexCast v226
  let c60_1024 : Index := 60#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1876 : Index := Scalar.indexCast v382
  let c0_1025 : Index := 0#32
  ![0, v1875.toNat, 60, v1876.toNat, 0]
def k0_off831 (v330 : BitVec 32) : Fin 5 → Nat :=
  let c0_1026 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1880 : Index := Scalar.indexCast v347
  let c61 : Index := 61#32
  let c0_1027 : Index := 0#32
  let c0_1028 : Index := 0#32
  ![0, v1880.toNat, 61, 0, 0]
def k0_off832 (v1 : BitVec 32) (k0_t34 : Fin (k0_t34_loop v1).trips) (v228 : BitVec 32) (v257 : BitVec 32) (k0_t38 : Fin (k0_t38_loop v228 v257).trips) : Fin 5 → Nat :=
  let c0_1031 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1897 : Index := Scalar.indexCast v226
  let c61_1032 : Index := 61#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1898 : Index := Scalar.indexCast v382
  let c0_1033 : Index := 0#32
  ![0, v1897.toNat, 61, v1898.toNat, 0]
def k0_off833 (v1 : BitVec 32) (k0_t34 : Fin (k0_t34_loop v1).trips) (v228 : BitVec 32) (v257 : BitVec 32) (k0_t38 : Fin (k0_t38_loop v228 v257).trips) : Fin 5 → Nat :=
  let c0_1034 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1902 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v1903 : Index := Scalar.indexCast arg19
  let c992 : Index := 992#32
  let c0_1035 : Index := 0#32
  ![0, v1902.toNat, v1903.toNat, 992, 0]
def k0_off834 (v330 : BitVec 32) : Fin 5 → Nat :=
  let c0_1036 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1907 : Index := Scalar.indexCast v347
  let c62 : Index := 62#32
  let c0_1037 : Index := 0#32
  let c0_1038 : Index := 0#32
  ![0, v1907.toNat, 62, 0, 0]
def k0_off835 (v1 : BitVec 32) (k0_t34 : Fin (k0_t34_loop v1).trips) (v228 : BitVec 32) (v257 : BitVec 32) (k0_t38 : Fin (k0_t38_loop v228 v257).trips) : Fin 5 → Nat :=
  let c0_1041 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1924 : Index := Scalar.indexCast v226
  let c62_1042 : Index := 62#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1925 : Index := Scalar.indexCast v382
  let c0_1043 : Index := 0#32
  ![0, v1924.toNat, 62, v1925.toNat, 0]
def k0_off836 (v330 : BitVec 32) : Fin 5 → Nat :=
  let c0_1044 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1929 : Index := Scalar.indexCast v347
  let c63 : Index := 63#32
  let c0_1045 : Index := 0#32
  let c0_1046 : Index := 0#32
  ![0, v1929.toNat, 63, 0, 0]
def k0_off837 (v1 : BitVec 32) (k0_t34 : Fin (k0_t34_loop v1).trips) (v228 : BitVec 32) (v257 : BitVec 32) (k0_t38 : Fin (k0_t38_loop v228 v257).trips) : Fin 5 → Nat :=
  let c0_1049 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1946 : Index := Scalar.indexCast v226
  let c63_1050 : Index := 63#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1947 : Index := Scalar.indexCast v382
  let c0_1051 : Index := 0#32
  ![0, v1946.toNat, 63, v1947.toNat, 0]
def k0_off838 (v1 : BitVec 32) (k0_t34 : Fin (k0_t34_loop v1).trips) (v228 : BitVec 32) (v257 : BitVec 32) (k0_t38 : Fin (k0_t38_loop v228 v257).trips) : Fin 5 → Nat :=
  let c0_1052 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1951 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v1952 : Index := Scalar.indexCast arg19
  let c1024 : Index := 1024#32
  let c0_1053 : Index := 0#32
  ![0, v1951.toNat, v1952.toNat, 1024, 0]
def k0_off839 (v330 : BitVec 32) : Fin 5 → Nat :=
  let c0_1054 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1956 : Index := Scalar.indexCast v347
  let c64_1055 : Index := 64#32
  let c0_1056 : Index := 0#32
  let c0_1057 : Index := 0#32
  ![0, v1956.toNat, 64, 0, 0]
def k0_off840 (v1 : BitVec 32) (k0_t34 : Fin (k0_t34_loop v1).trips) (v228 : BitVec 32) (v257 : BitVec 32) (k0_t38 : Fin (k0_t38_loop v228 v257).trips) : Fin 5 → Nat :=
  let c0_1060 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1973 : Index := Scalar.indexCast v226
  let c64_1061 : Index := 64#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1974 : Index := Scalar.indexCast v382
  let c0_1062 : Index := 0#32
  ![0, v1973.toNat, 64, v1974.toNat, 0]
def k0_off841 (v330 : BitVec 32) : Fin 5 → Nat :=
  let c0_1063 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1978 : Index := Scalar.indexCast v347
  let c65 : Index := 65#32
  let c0_1064 : Index := 0#32
  let c0_1065 : Index := 0#32
  ![0, v1978.toNat, 65, 0, 0]
def k0_off842 (v1 : BitVec 32) (k0_t34 : Fin (k0_t34_loop v1).trips) (v228 : BitVec 32) (v257 : BitVec 32) (k0_t38 : Fin (k0_t38_loop v228 v257).trips) : Fin 5 → Nat :=
  let c0_1068 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1995 : Index := Scalar.indexCast v226
  let c65_1069 : Index := 65#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v1996 : Index := Scalar.indexCast v382
  let c0_1070 : Index := 0#32
  ![0, v1995.toNat, 65, v1996.toNat, 0]
def k0_off843 (v1 : BitVec 32) (k0_t34 : Fin (k0_t34_loop v1).trips) (v228 : BitVec 32) (v257 : BitVec 32) (k0_t38 : Fin (k0_t38_loop v228 v257).trips) : Fin 5 → Nat :=
  let c0_1071 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2000 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v2001 : Index := Scalar.indexCast arg19
  let c1056 : Index := 1056#32
  let c0_1072 : Index := 0#32
  ![0, v2000.toNat, v2001.toNat, 1056, 0]
def k0_off844 (v330 : BitVec 32) : Fin 5 → Nat :=
  let c0_1073 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2005 : Index := Scalar.indexCast v347
  let c66 : Index := 66#32
  let c0_1074 : Index := 0#32
  let c0_1075 : Index := 0#32
  ![0, v2005.toNat, 66, 0, 0]
def k0_off845 (v1 : BitVec 32) (k0_t34 : Fin (k0_t34_loop v1).trips) (v228 : BitVec 32) (v257 : BitVec 32) (k0_t38 : Fin (k0_t38_loop v228 v257).trips) : Fin 5 → Nat :=
  let c0_1078 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2022 : Index := Scalar.indexCast v226
  let c66_1079 : Index := 66#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2023 : Index := Scalar.indexCast v382
  let c0_1080 : Index := 0#32
  ![0, v2022.toNat, 66, v2023.toNat, 0]
def k0_off846 (v330 : BitVec 32) : Fin 5 → Nat :=
  let c0_1081 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2027 : Index := Scalar.indexCast v347
  let c67 : Index := 67#32
  let c0_1082 : Index := 0#32
  let c0_1083 : Index := 0#32
  ![0, v2027.toNat, 67, 0, 0]
def k0_off847 (v1 : BitVec 32) (k0_t34 : Fin (k0_t34_loop v1).trips) (v228 : BitVec 32) (v257 : BitVec 32) (k0_t38 : Fin (k0_t38_loop v228 v257).trips) : Fin 5 → Nat :=
  let c0_1086 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2044 : Index := Scalar.indexCast v226
  let c67_1087 : Index := 67#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2045 : Index := Scalar.indexCast v382
  let c0_1088 : Index := 0#32
  ![0, v2044.toNat, 67, v2045.toNat, 0]
def k0_off848 (v1 : BitVec 32) (k0_t34 : Fin (k0_t34_loop v1).trips) (v228 : BitVec 32) (v257 : BitVec 32) (k0_t38 : Fin (k0_t38_loop v228 v257).trips) : Fin 5 → Nat :=
  let c0_1089 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2049 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v2050 : Index := Scalar.indexCast arg19
  let c1088 : Index := 1088#32
  let c0_1090 : Index := 0#32
  ![0, v2049.toNat, v2050.toNat, 1088, 0]
def k0_off849 (v330 : BitVec 32) : Fin 5 → Nat :=
  let c0_1091 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2054 : Index := Scalar.indexCast v347
  let c68 : Index := 68#32
  let c0_1092 : Index := 0#32
  let c0_1093 : Index := 0#32
  ![0, v2054.toNat, 68, 0, 0]
def k0_off850 (v1 : BitVec 32) (k0_t34 : Fin (k0_t34_loop v1).trips) (v228 : BitVec 32) (v257 : BitVec 32) (k0_t38 : Fin (k0_t38_loop v228 v257).trips) : Fin 5 → Nat :=
  let c0_1096 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2071 : Index := Scalar.indexCast v226
  let c68_1097 : Index := 68#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2072 : Index := Scalar.indexCast v382
  let c0_1098 : Index := 0#32
  ![0, v2071.toNat, 68, v2072.toNat, 0]
def k0_off851 (v330 : BitVec 32) : Fin 5 → Nat :=
  let c0_1099 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2076 : Index := Scalar.indexCast v347
  let c69 : Index := 69#32
  let c0_1100 : Index := 0#32
  let c0_1101 : Index := 0#32
  ![0, v2076.toNat, 69, 0, 0]
def k0_off852 (v1 : BitVec 32) (k0_t34 : Fin (k0_t34_loop v1).trips) (v228 : BitVec 32) (v257 : BitVec 32) (k0_t38 : Fin (k0_t38_loop v228 v257).trips) : Fin 5 → Nat :=
  let c0_1104 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2093 : Index := Scalar.indexCast v226
  let c69_1105 : Index := 69#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2094 : Index := Scalar.indexCast v382
  let c0_1106 : Index := 0#32
  ![0, v2093.toNat, 69, v2094.toNat, 0]
def k0_off853 (v1 : BitVec 32) (k0_t34 : Fin (k0_t34_loop v1).trips) (v228 : BitVec 32) (v257 : BitVec 32) (k0_t38 : Fin (k0_t38_loop v228 v257).trips) : Fin 5 → Nat :=
  let c0_1107 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2098 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v2099 : Index := Scalar.indexCast arg19
  let c1120 : Index := 1120#32
  let c0_1108 : Index := 0#32
  ![0, v2098.toNat, v2099.toNat, 1120, 0]
def k0_off854 (v330 : BitVec 32) : Fin 5 → Nat :=
  let c0_1109 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2103 : Index := Scalar.indexCast v347
  let c70 : Index := 70#32
  let c0_1110 : Index := 0#32
  let c0_1111 : Index := 0#32
  ![0, v2103.toNat, 70, 0, 0]
def k0_off855 (v1 : BitVec 32) (k0_t34 : Fin (k0_t34_loop v1).trips) (v228 : BitVec 32) (v257 : BitVec 32) (k0_t38 : Fin (k0_t38_loop v228 v257).trips) : Fin 5 → Nat :=
  let c0_1114 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2120 : Index := Scalar.indexCast v226
  let c70_1115 : Index := 70#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2121 : Index := Scalar.indexCast v382
  let c0_1116 : Index := 0#32
  ![0, v2120.toNat, 70, v2121.toNat, 0]
def k0_off856 (v330 : BitVec 32) : Fin 5 → Nat :=
  let c0_1117 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2125 : Index := Scalar.indexCast v347
  let c71 : Index := 71#32
  let c0_1118 : Index := 0#32
  let c0_1119 : Index := 0#32
  ![0, v2125.toNat, 71, 0, 0]
def k0_off857 (v1 : BitVec 32) (k0_t34 : Fin (k0_t34_loop v1).trips) (v228 : BitVec 32) (v257 : BitVec 32) (k0_t38 : Fin (k0_t38_loop v228 v257).trips) : Fin 5 → Nat :=
  let c0_1122 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2142 : Index := Scalar.indexCast v226
  let c71_1123 : Index := 71#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2143 : Index := Scalar.indexCast v382
  let c0_1124 : Index := 0#32
  ![0, v2142.toNat, 71, v2143.toNat, 0]
def k0_off858 (v1 : BitVec 32) (k0_t34 : Fin (k0_t34_loop v1).trips) (v228 : BitVec 32) (v257 : BitVec 32) (k0_t38 : Fin (k0_t38_loop v228 v257).trips) : Fin 5 → Nat :=
  let c0_1125 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2147 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v2148 : Index := Scalar.indexCast arg19
  let c1152 : Index := 1152#32
  let c0_1126 : Index := 0#32
  ![0, v2147.toNat, v2148.toNat, 1152, 0]
def k0_off859 (v330 : BitVec 32) : Fin 5 → Nat :=
  let c0_1127 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2152 : Index := Scalar.indexCast v347
  let c72 : Index := 72#32
  let c0_1128 : Index := 0#32
  let c0_1129 : Index := 0#32
  ![0, v2152.toNat, 72, 0, 0]
def k0_off860 (v1 : BitVec 32) (k0_t34 : Fin (k0_t34_loop v1).trips) (v228 : BitVec 32) (v257 : BitVec 32) (k0_t38 : Fin (k0_t38_loop v228 v257).trips) : Fin 5 → Nat :=
  let c0_1132 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2169 : Index := Scalar.indexCast v226
  let c72_1133 : Index := 72#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2170 : Index := Scalar.indexCast v382
  let c0_1134 : Index := 0#32
  ![0, v2169.toNat, 72, v2170.toNat, 0]
def k0_off861 (v330 : BitVec 32) : Fin 5 → Nat :=
  let c0_1135 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2174 : Index := Scalar.indexCast v347
  let c73 : Index := 73#32
  let c0_1136 : Index := 0#32
  let c0_1137 : Index := 0#32
  ![0, v2174.toNat, 73, 0, 0]
def k0_off862 (v1 : BitVec 32) (k0_t34 : Fin (k0_t34_loop v1).trips) (v228 : BitVec 32) (v257 : BitVec 32) (k0_t38 : Fin (k0_t38_loop v228 v257).trips) : Fin 5 → Nat :=
  let c0_1140 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2191 : Index := Scalar.indexCast v226
  let c73_1141 : Index := 73#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2192 : Index := Scalar.indexCast v382
  let c0_1142 : Index := 0#32
  ![0, v2191.toNat, 73, v2192.toNat, 0]
def k0_off863 (v1 : BitVec 32) (k0_t34 : Fin (k0_t34_loop v1).trips) (v228 : BitVec 32) (v257 : BitVec 32) (k0_t38 : Fin (k0_t38_loop v228 v257).trips) : Fin 5 → Nat :=
  let c0_1143 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2196 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v2197 : Index := Scalar.indexCast arg19
  let c1184 : Index := 1184#32
  let c0_1144 : Index := 0#32
  ![0, v2196.toNat, v2197.toNat, 1184, 0]
def k0_off864 (v330 : BitVec 32) : Fin 5 → Nat :=
  let c0_1145 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2201 : Index := Scalar.indexCast v347
  let c74 : Index := 74#32
  let c0_1146 : Index := 0#32
  let c0_1147 : Index := 0#32
  ![0, v2201.toNat, 74, 0, 0]
def k0_off865 (v1 : BitVec 32) (k0_t34 : Fin (k0_t34_loop v1).trips) (v228 : BitVec 32) (v257 : BitVec 32) (k0_t38 : Fin (k0_t38_loop v228 v257).trips) : Fin 5 → Nat :=
  let c0_1150 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2218 : Index := Scalar.indexCast v226
  let c74_1151 : Index := 74#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2219 : Index := Scalar.indexCast v382
  let c0_1152 : Index := 0#32
  ![0, v2218.toNat, 74, v2219.toNat, 0]
def k0_off866 (v330 : BitVec 32) : Fin 5 → Nat :=
  let c0_1153 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2223 : Index := Scalar.indexCast v347
  let c75 : Index := 75#32
  let c0_1154 : Index := 0#32
  let c0_1155 : Index := 0#32
  ![0, v2223.toNat, 75, 0, 0]
def k0_off867 (v1 : BitVec 32) (k0_t34 : Fin (k0_t34_loop v1).trips) (v228 : BitVec 32) (v257 : BitVec 32) (k0_t38 : Fin (k0_t38_loop v228 v257).trips) : Fin 5 → Nat :=
  let c0_1158 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2240 : Index := Scalar.indexCast v226
  let c75_1159 : Index := 75#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2241 : Index := Scalar.indexCast v382
  let c0_1160 : Index := 0#32
  ![0, v2240.toNat, 75, v2241.toNat, 0]
def k0_off868 (v1 : BitVec 32) (k0_t34 : Fin (k0_t34_loop v1).trips) (v228 : BitVec 32) (v257 : BitVec 32) (k0_t38 : Fin (k0_t38_loop v228 v257).trips) : Fin 5 → Nat :=
  let c0_1161 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2245 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v2246 : Index := Scalar.indexCast arg19
  let c1216 : Index := 1216#32
  let c0_1162 : Index := 0#32
  ![0, v2245.toNat, v2246.toNat, 1216, 0]
def k0_off869 (v330 : BitVec 32) : Fin 5 → Nat :=
  let c0_1163 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2250 : Index := Scalar.indexCast v347
  let c76 : Index := 76#32
  let c0_1164 : Index := 0#32
  let c0_1165 : Index := 0#32
  ![0, v2250.toNat, 76, 0, 0]
def k0_off870 (v1 : BitVec 32) (k0_t34 : Fin (k0_t34_loop v1).trips) (v228 : BitVec 32) (v257 : BitVec 32) (k0_t38 : Fin (k0_t38_loop v228 v257).trips) : Fin 5 → Nat :=
  let c0_1168 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2267 : Index := Scalar.indexCast v226
  let c76_1169 : Index := 76#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2268 : Index := Scalar.indexCast v382
  let c0_1170 : Index := 0#32
  ![0, v2267.toNat, 76, v2268.toNat, 0]
def k0_off871 (v330 : BitVec 32) : Fin 5 → Nat :=
  let c0_1171 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2272 : Index := Scalar.indexCast v347
  let c77 : Index := 77#32
  let c0_1172 : Index := 0#32
  let c0_1173 : Index := 0#32
  ![0, v2272.toNat, 77, 0, 0]
def k0_off872 (v1 : BitVec 32) (k0_t34 : Fin (k0_t34_loop v1).trips) (v228 : BitVec 32) (v257 : BitVec 32) (k0_t38 : Fin (k0_t38_loop v228 v257).trips) : Fin 5 → Nat :=
  let c0_1176 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2289 : Index := Scalar.indexCast v226
  let c77_1177 : Index := 77#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2290 : Index := Scalar.indexCast v382
  let c0_1178 : Index := 0#32
  ![0, v2289.toNat, 77, v2290.toNat, 0]
def k0_off873 (v1 : BitVec 32) (k0_t34 : Fin (k0_t34_loop v1).trips) (v228 : BitVec 32) (v257 : BitVec 32) (k0_t38 : Fin (k0_t38_loop v228 v257).trips) : Fin 5 → Nat :=
  let c0_1179 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2294 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v2295 : Index := Scalar.indexCast arg19
  let c1248 : Index := 1248#32
  let c0_1180 : Index := 0#32
  ![0, v2294.toNat, v2295.toNat, 1248, 0]
def k0_off874 (v330 : BitVec 32) : Fin 5 → Nat :=
  let c0_1181 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2299 : Index := Scalar.indexCast v347
  let c78 : Index := 78#32
  let c0_1182 : Index := 0#32
  let c0_1183 : Index := 0#32
  ![0, v2299.toNat, 78, 0, 0]
def k0_off875 (v1 : BitVec 32) (k0_t34 : Fin (k0_t34_loop v1).trips) (v228 : BitVec 32) (v257 : BitVec 32) (k0_t38 : Fin (k0_t38_loop v228 v257).trips) : Fin 5 → Nat :=
  let c0_1186 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2316 : Index := Scalar.indexCast v226
  let c78_1187 : Index := 78#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2317 : Index := Scalar.indexCast v382
  let c0_1188 : Index := 0#32
  ![0, v2316.toNat, 78, v2317.toNat, 0]
def k0_off876 (v330 : BitVec 32) : Fin 5 → Nat :=
  let c0_1189 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2321 : Index := Scalar.indexCast v347
  let c79 : Index := 79#32
  let c0_1190 : Index := 0#32
  let c0_1191 : Index := 0#32
  ![0, v2321.toNat, 79, 0, 0]
def k0_off877 (v1 : BitVec 32) (k0_t34 : Fin (k0_t34_loop v1).trips) (v228 : BitVec 32) (v257 : BitVec 32) (k0_t38 : Fin (k0_t38_loop v228 v257).trips) : Fin 5 → Nat :=
  let c0_1194 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2338 : Index := Scalar.indexCast v226
  let c79_1195 : Index := 79#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2339 : Index := Scalar.indexCast v382
  let c0_1196 : Index := 0#32
  ![0, v2338.toNat, 79, v2339.toNat, 0]
def k0_off878 (v1 : BitVec 32) (k0_t34 : Fin (k0_t34_loop v1).trips) (v228 : BitVec 32) (v257 : BitVec 32) (k0_t38 : Fin (k0_t38_loop v228 v257).trips) : Fin 5 → Nat :=
  let c0_1197 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2343 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v2344 : Index := Scalar.indexCast arg19
  let c1280 : Index := 1280#32
  let c0_1198 : Index := 0#32
  ![0, v2343.toNat, v2344.toNat, 1280, 0]
def k0_off879 (v330 : BitVec 32) : Fin 5 → Nat :=
  let c0_1199 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2348 : Index := Scalar.indexCast v347
  let c80 : Index := 80#32
  let c0_1200 : Index := 0#32
  let c0_1201 : Index := 0#32
  ![0, v2348.toNat, 80, 0, 0]
def k0_off880 (v1 : BitVec 32) (k0_t34 : Fin (k0_t34_loop v1).trips) (v228 : BitVec 32) (v257 : BitVec 32) (k0_t38 : Fin (k0_t38_loop v228 v257).trips) : Fin 5 → Nat :=
  let c0_1204 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2365 : Index := Scalar.indexCast v226
  let c80_1205 : Index := 80#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2366 : Index := Scalar.indexCast v382
  let c0_1206 : Index := 0#32
  ![0, v2365.toNat, 80, v2366.toNat, 0]
def k0_off881 (v330 : BitVec 32) : Fin 5 → Nat :=
  let c0_1207 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2370 : Index := Scalar.indexCast v347
  let c81 : Index := 81#32
  let c0_1208 : Index := 0#32
  let c0_1209 : Index := 0#32
  ![0, v2370.toNat, 81, 0, 0]
def k0_off882 (v1 : BitVec 32) (k0_t34 : Fin (k0_t34_loop v1).trips) (v228 : BitVec 32) (v257 : BitVec 32) (k0_t38 : Fin (k0_t38_loop v228 v257).trips) : Fin 5 → Nat :=
  let c0_1212 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2387 : Index := Scalar.indexCast v226
  let c81_1213 : Index := 81#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2388 : Index := Scalar.indexCast v382
  let c0_1214 : Index := 0#32
  ![0, v2387.toNat, 81, v2388.toNat, 0]
def k0_off883 (v1 : BitVec 32) (k0_t34 : Fin (k0_t34_loop v1).trips) (v228 : BitVec 32) (v257 : BitVec 32) (k0_t38 : Fin (k0_t38_loop v228 v257).trips) : Fin 5 → Nat :=
  let c0_1215 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2392 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v2393 : Index := Scalar.indexCast arg19
  let c1312 : Index := 1312#32
  let c0_1216 : Index := 0#32
  ![0, v2392.toNat, v2393.toNat, 1312, 0]
def k0_off884 (v330 : BitVec 32) : Fin 5 → Nat :=
  let c0_1217 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2397 : Index := Scalar.indexCast v347
  let c82 : Index := 82#32
  let c0_1218 : Index := 0#32
  let c0_1219 : Index := 0#32
  ![0, v2397.toNat, 82, 0, 0]
def k0_off885 (v1 : BitVec 32) (k0_t34 : Fin (k0_t34_loop v1).trips) (v228 : BitVec 32) (v257 : BitVec 32) (k0_t38 : Fin (k0_t38_loop v228 v257).trips) : Fin 5 → Nat :=
  let c0_1222 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2414 : Index := Scalar.indexCast v226
  let c82_1223 : Index := 82#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2415 : Index := Scalar.indexCast v382
  let c0_1224 : Index := 0#32
  ![0, v2414.toNat, 82, v2415.toNat, 0]
def k0_off886 (v330 : BitVec 32) : Fin 5 → Nat :=
  let c0_1225 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2419 : Index := Scalar.indexCast v347
  let c83 : Index := 83#32
  let c0_1226 : Index := 0#32
  let c0_1227 : Index := 0#32
  ![0, v2419.toNat, 83, 0, 0]
def k0_off887 (v1 : BitVec 32) (k0_t34 : Fin (k0_t34_loop v1).trips) (v228 : BitVec 32) (v257 : BitVec 32) (k0_t38 : Fin (k0_t38_loop v228 v257).trips) : Fin 5 → Nat :=
  let c0_1230 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2436 : Index := Scalar.indexCast v226
  let c83_1231 : Index := 83#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2437 : Index := Scalar.indexCast v382
  let c0_1232 : Index := 0#32
  ![0, v2436.toNat, 83, v2437.toNat, 0]
def k0_off888 (v1 : BitVec 32) (k0_t34 : Fin (k0_t34_loop v1).trips) (v228 : BitVec 32) (v257 : BitVec 32) (k0_t38 : Fin (k0_t38_loop v228 v257).trips) : Fin 5 → Nat :=
  let c0_1233 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2441 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v2442 : Index := Scalar.indexCast arg19
  let c1344 : Index := 1344#32
  let c0_1234 : Index := 0#32
  ![0, v2441.toNat, v2442.toNat, 1344, 0]
def k0_off889 (v330 : BitVec 32) : Fin 5 → Nat :=
  let c0_1235 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2446 : Index := Scalar.indexCast v347
  let c84 : Index := 84#32
  let c0_1236 : Index := 0#32
  let c0_1237 : Index := 0#32
  ![0, v2446.toNat, 84, 0, 0]
def k0_off890 (v1 : BitVec 32) (k0_t34 : Fin (k0_t34_loop v1).trips) (v228 : BitVec 32) (v257 : BitVec 32) (k0_t38 : Fin (k0_t38_loop v228 v257).trips) : Fin 5 → Nat :=
  let c0_1240 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2463 : Index := Scalar.indexCast v226
  let c84_1241 : Index := 84#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2464 : Index := Scalar.indexCast v382
  let c0_1242 : Index := 0#32
  ![0, v2463.toNat, 84, v2464.toNat, 0]
def k0_off891 (v330 : BitVec 32) : Fin 5 → Nat :=
  let c0_1243 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2468 : Index := Scalar.indexCast v347
  let c85 : Index := 85#32
  let c0_1244 : Index := 0#32
  let c0_1245 : Index := 0#32
  ![0, v2468.toNat, 85, 0, 0]
def k0_off892 (v1 : BitVec 32) (k0_t34 : Fin (k0_t34_loop v1).trips) (v228 : BitVec 32) (v257 : BitVec 32) (k0_t38 : Fin (k0_t38_loop v228 v257).trips) : Fin 5 → Nat :=
  let c0_1248 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2485 : Index := Scalar.indexCast v226
  let c85_1249 : Index := 85#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2486 : Index := Scalar.indexCast v382
  let c0_1250 : Index := 0#32
  ![0, v2485.toNat, 85, v2486.toNat, 0]
def k0_off893 (v1 : BitVec 32) (k0_t34 : Fin (k0_t34_loop v1).trips) (v228 : BitVec 32) (v257 : BitVec 32) (k0_t38 : Fin (k0_t38_loop v228 v257).trips) : Fin 5 → Nat :=
  let c0_1251 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2490 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v2491 : Index := Scalar.indexCast arg19
  let c1376 : Index := 1376#32
  let c0_1252 : Index := 0#32
  ![0, v2490.toNat, v2491.toNat, 1376, 0]
def k0_off894 (v330 : BitVec 32) : Fin 5 → Nat :=
  let c0_1253 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2495 : Index := Scalar.indexCast v347
  let c86 : Index := 86#32
  let c0_1254 : Index := 0#32
  let c0_1255 : Index := 0#32
  ![0, v2495.toNat, 86, 0, 0]
def k0_off895 (v1 : BitVec 32) (k0_t34 : Fin (k0_t34_loop v1).trips) (v228 : BitVec 32) (v257 : BitVec 32) (k0_t38 : Fin (k0_t38_loop v228 v257).trips) : Fin 5 → Nat :=
  let c0_1258 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2512 : Index := Scalar.indexCast v226
  let c86_1259 : Index := 86#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2513 : Index := Scalar.indexCast v382
  let c0_1260 : Index := 0#32
  ![0, v2512.toNat, 86, v2513.toNat, 0]
def k0_off896 (v330 : BitVec 32) : Fin 5 → Nat :=
  let c0_1261 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2517 : Index := Scalar.indexCast v347
  let c87 : Index := 87#32
  let c0_1262 : Index := 0#32
  let c0_1263 : Index := 0#32
  ![0, v2517.toNat, 87, 0, 0]
def k0_off897 (v1 : BitVec 32) (k0_t34 : Fin (k0_t34_loop v1).trips) (v228 : BitVec 32) (v257 : BitVec 32) (k0_t38 : Fin (k0_t38_loop v228 v257).trips) : Fin 5 → Nat :=
  let c0_1266 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2534 : Index := Scalar.indexCast v226
  let c87_1267 : Index := 87#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2535 : Index := Scalar.indexCast v382
  let c0_1268 : Index := 0#32
  ![0, v2534.toNat, 87, v2535.toNat, 0]
def k0_off898 (v1 : BitVec 32) (k0_t34 : Fin (k0_t34_loop v1).trips) (v228 : BitVec 32) (v257 : BitVec 32) (k0_t38 : Fin (k0_t38_loop v228 v257).trips) : Fin 5 → Nat :=
  let c0_1269 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2539 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v2540 : Index := Scalar.indexCast arg19
  let c1408 : Index := 1408#32
  let c0_1270 : Index := 0#32
  ![0, v2539.toNat, v2540.toNat, 1408, 0]
def k0_off899 (v330 : BitVec 32) : Fin 5 → Nat :=
  let c0_1271 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2544 : Index := Scalar.indexCast v347
  let c88 : Index := 88#32
  let c0_1272 : Index := 0#32
  let c0_1273 : Index := 0#32
  ![0, v2544.toNat, 88, 0, 0]
def k0_off900 (v1 : BitVec 32) (k0_t34 : Fin (k0_t34_loop v1).trips) (v228 : BitVec 32) (v257 : BitVec 32) (k0_t38 : Fin (k0_t38_loop v228 v257).trips) : Fin 5 → Nat :=
  let c0_1276 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2561 : Index := Scalar.indexCast v226
  let c88_1277 : Index := 88#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2562 : Index := Scalar.indexCast v382
  let c0_1278 : Index := 0#32
  ![0, v2561.toNat, 88, v2562.toNat, 0]
def k0_off901 (v330 : BitVec 32) : Fin 5 → Nat :=
  let c0_1279 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2566 : Index := Scalar.indexCast v347
  let c89 : Index := 89#32
  let c0_1280 : Index := 0#32
  let c0_1281 : Index := 0#32
  ![0, v2566.toNat, 89, 0, 0]
def k0_off902 (v1 : BitVec 32) (k0_t34 : Fin (k0_t34_loop v1).trips) (v228 : BitVec 32) (v257 : BitVec 32) (k0_t38 : Fin (k0_t38_loop v228 v257).trips) : Fin 5 → Nat :=
  let c0_1284 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2583 : Index := Scalar.indexCast v226
  let c89_1285 : Index := 89#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2584 : Index := Scalar.indexCast v382
  let c0_1286 : Index := 0#32
  ![0, v2583.toNat, 89, v2584.toNat, 0]
def k0_off903 (v1 : BitVec 32) (k0_t34 : Fin (k0_t34_loop v1).trips) (v228 : BitVec 32) (v257 : BitVec 32) (k0_t38 : Fin (k0_t38_loop v228 v257).trips) : Fin 5 → Nat :=
  let c0_1287 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2588 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v2589 : Index := Scalar.indexCast arg19
  let c1440 : Index := 1440#32
  let c0_1288 : Index := 0#32
  ![0, v2588.toNat, v2589.toNat, 1440, 0]
def k0_off904 (v330 : BitVec 32) : Fin 5 → Nat :=
  let c0_1289 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2593 : Index := Scalar.indexCast v347
  let c90 : Index := 90#32
  let c0_1290 : Index := 0#32
  let c0_1291 : Index := 0#32
  ![0, v2593.toNat, 90, 0, 0]
def k0_off905 (v1 : BitVec 32) (k0_t34 : Fin (k0_t34_loop v1).trips) (v228 : BitVec 32) (v257 : BitVec 32) (k0_t38 : Fin (k0_t38_loop v228 v257).trips) : Fin 5 → Nat :=
  let c0_1294 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2610 : Index := Scalar.indexCast v226
  let c90_1295 : Index := 90#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2611 : Index := Scalar.indexCast v382
  let c0_1296 : Index := 0#32
  ![0, v2610.toNat, 90, v2611.toNat, 0]
def k0_off906 (v330 : BitVec 32) : Fin 5 → Nat :=
  let c0_1297 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2615 : Index := Scalar.indexCast v347
  let c91 : Index := 91#32
  let c0_1298 : Index := 0#32
  let c0_1299 : Index := 0#32
  ![0, v2615.toNat, 91, 0, 0]
def k0_off907 (v1 : BitVec 32) (k0_t34 : Fin (k0_t34_loop v1).trips) (v228 : BitVec 32) (v257 : BitVec 32) (k0_t38 : Fin (k0_t38_loop v228 v257).trips) : Fin 5 → Nat :=
  let c0_1302 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2632 : Index := Scalar.indexCast v226
  let c91_1303 : Index := 91#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2633 : Index := Scalar.indexCast v382
  let c0_1304 : Index := 0#32
  ![0, v2632.toNat, 91, v2633.toNat, 0]
def k0_off908 (v1 : BitVec 32) (k0_t34 : Fin (k0_t34_loop v1).trips) (v228 : BitVec 32) (v257 : BitVec 32) (k0_t38 : Fin (k0_t38_loop v228 v257).trips) : Fin 5 → Nat :=
  let c0_1305 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2637 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v2638 : Index := Scalar.indexCast arg19
  let c1472 : Index := 1472#32
  let c0_1306 : Index := 0#32
  ![0, v2637.toNat, v2638.toNat, 1472, 0]
def k0_off909 (v330 : BitVec 32) : Fin 5 → Nat :=
  let c0_1307 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2642 : Index := Scalar.indexCast v347
  let c92 : Index := 92#32
  let c0_1308 : Index := 0#32
  let c0_1309 : Index := 0#32
  ![0, v2642.toNat, 92, 0, 0]
def k0_off910 (v1 : BitVec 32) (k0_t34 : Fin (k0_t34_loop v1).trips) (v228 : BitVec 32) (v257 : BitVec 32) (k0_t38 : Fin (k0_t38_loop v228 v257).trips) : Fin 5 → Nat :=
  let c0_1312 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2659 : Index := Scalar.indexCast v226
  let c92_1313 : Index := 92#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2660 : Index := Scalar.indexCast v382
  let c0_1314 : Index := 0#32
  ![0, v2659.toNat, 92, v2660.toNat, 0]
def k0_off911 (v330 : BitVec 32) : Fin 5 → Nat :=
  let c0_1315 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2664 : Index := Scalar.indexCast v347
  let c93 : Index := 93#32
  let c0_1316 : Index := 0#32
  let c0_1317 : Index := 0#32
  ![0, v2664.toNat, 93, 0, 0]
def k0_off912 (v1 : BitVec 32) (k0_t34 : Fin (k0_t34_loop v1).trips) (v228 : BitVec 32) (v257 : BitVec 32) (k0_t38 : Fin (k0_t38_loop v228 v257).trips) : Fin 5 → Nat :=
  let c0_1320 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2681 : Index := Scalar.indexCast v226
  let c93_1321 : Index := 93#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2682 : Index := Scalar.indexCast v382
  let c0_1322 : Index := 0#32
  ![0, v2681.toNat, 93, v2682.toNat, 0]
def k0_off913 (v1 : BitVec 32) (k0_t34 : Fin (k0_t34_loop v1).trips) (v228 : BitVec 32) (v257 : BitVec 32) (k0_t38 : Fin (k0_t38_loop v228 v257).trips) : Fin 5 → Nat :=
  let c0_1323 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2686 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v2687 : Index := Scalar.indexCast arg19
  let c1504 : Index := 1504#32
  let c0_1324 : Index := 0#32
  ![0, v2686.toNat, v2687.toNat, 1504, 0]
def k0_off914 (v330 : BitVec 32) : Fin 5 → Nat :=
  let c0_1325 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2691 : Index := Scalar.indexCast v347
  let c94 : Index := 94#32
  let c0_1326 : Index := 0#32
  let c0_1327 : Index := 0#32
  ![0, v2691.toNat, 94, 0, 0]
def k0_off915 (v1 : BitVec 32) (k0_t34 : Fin (k0_t34_loop v1).trips) (v228 : BitVec 32) (v257 : BitVec 32) (k0_t38 : Fin (k0_t38_loop v228 v257).trips) : Fin 5 → Nat :=
  let c0_1330 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2708 : Index := Scalar.indexCast v226
  let c94_1331 : Index := 94#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2709 : Index := Scalar.indexCast v382
  let c0_1332 : Index := 0#32
  ![0, v2708.toNat, 94, v2709.toNat, 0]
def k0_off916 (v330 : BitVec 32) : Fin 5 → Nat :=
  let c0_1333 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2713 : Index := Scalar.indexCast v347
  let c95 : Index := 95#32
  let c0_1334 : Index := 0#32
  let c0_1335 : Index := 0#32
  ![0, v2713.toNat, 95, 0, 0]
def k0_off917 (v1 : BitVec 32) (k0_t34 : Fin (k0_t34_loop v1).trips) (v228 : BitVec 32) (v257 : BitVec 32) (k0_t38 : Fin (k0_t38_loop v228 v257).trips) : Fin 5 → Nat :=
  let c0_1338 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2730 : Index := Scalar.indexCast v226
  let c95_1339 : Index := 95#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2731 : Index := Scalar.indexCast v382
  let c0_1340 : Index := 0#32
  ![0, v2730.toNat, 95, v2731.toNat, 0]
def k0_off918 (v1 : BitVec 32) (k0_t34 : Fin (k0_t34_loop v1).trips) (v228 : BitVec 32) (v257 : BitVec 32) (k0_t38 : Fin (k0_t38_loop v228 v257).trips) : Fin 5 → Nat :=
  let c0_1341 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2735 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v2736 : Index := Scalar.indexCast arg19
  let c1536 : Index := 1536#32
  let c0_1342 : Index := 0#32
  ![0, v2735.toNat, v2736.toNat, 1536, 0]
def k0_off919 (v330 : BitVec 32) : Fin 5 → Nat :=
  let c0_1343 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2740 : Index := Scalar.indexCast v347
  let c96_1344 : Index := 96#32
  let c0_1345 : Index := 0#32
  let c0_1346 : Index := 0#32
  ![0, v2740.toNat, 96, 0, 0]
def k0_off920 (v1 : BitVec 32) (k0_t34 : Fin (k0_t34_loop v1).trips) (v228 : BitVec 32) (v257 : BitVec 32) (k0_t38 : Fin (k0_t38_loop v228 v257).trips) : Fin 5 → Nat :=
  let c0_1349 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2757 : Index := Scalar.indexCast v226
  let c96_1350 : Index := 96#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2758 : Index := Scalar.indexCast v382
  let c0_1351 : Index := 0#32
  ![0, v2757.toNat, 96, v2758.toNat, 0]
def k0_off921 (v330 : BitVec 32) : Fin 5 → Nat :=
  let c0_1352 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2762 : Index := Scalar.indexCast v347
  let c97 : Index := 97#32
  let c0_1353 : Index := 0#32
  let c0_1354 : Index := 0#32
  ![0, v2762.toNat, 97, 0, 0]
def k0_off922 (v1 : BitVec 32) (k0_t34 : Fin (k0_t34_loop v1).trips) (v228 : BitVec 32) (v257 : BitVec 32) (k0_t38 : Fin (k0_t38_loop v228 v257).trips) : Fin 5 → Nat :=
  let c0_1357 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2779 : Index := Scalar.indexCast v226
  let c97_1358 : Index := 97#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2780 : Index := Scalar.indexCast v382
  let c0_1359 : Index := 0#32
  ![0, v2779.toNat, 97, v2780.toNat, 0]
def k0_off923 (v1 : BitVec 32) (k0_t34 : Fin (k0_t34_loop v1).trips) (v228 : BitVec 32) (v257 : BitVec 32) (k0_t38 : Fin (k0_t38_loop v228 v257).trips) : Fin 5 → Nat :=
  let c0_1360 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2784 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v2785 : Index := Scalar.indexCast arg19
  let c1568 : Index := 1568#32
  let c0_1361 : Index := 0#32
  ![0, v2784.toNat, v2785.toNat, 1568, 0]
def k0_off924 (v330 : BitVec 32) : Fin 5 → Nat :=
  let c0_1362 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2789 : Index := Scalar.indexCast v347
  let c98 : Index := 98#32
  let c0_1363 : Index := 0#32
  let c0_1364 : Index := 0#32
  ![0, v2789.toNat, 98, 0, 0]
def k0_off925 (v1 : BitVec 32) (k0_t34 : Fin (k0_t34_loop v1).trips) (v228 : BitVec 32) (v257 : BitVec 32) (k0_t38 : Fin (k0_t38_loop v228 v257).trips) : Fin 5 → Nat :=
  let c0_1367 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2806 : Index := Scalar.indexCast v226
  let c98_1368 : Index := 98#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2807 : Index := Scalar.indexCast v382
  let c0_1369 : Index := 0#32
  ![0, v2806.toNat, 98, v2807.toNat, 0]
def k0_off926 (v330 : BitVec 32) : Fin 5 → Nat :=
  let c0_1370 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2811 : Index := Scalar.indexCast v347
  let c99 : Index := 99#32
  let c0_1371 : Index := 0#32
  let c0_1372 : Index := 0#32
  ![0, v2811.toNat, 99, 0, 0]
def k0_off927 (v1 : BitVec 32) (k0_t34 : Fin (k0_t34_loop v1).trips) (v228 : BitVec 32) (v257 : BitVec 32) (k0_t38 : Fin (k0_t38_loop v228 v257).trips) : Fin 5 → Nat :=
  let c0_1375 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2828 : Index := Scalar.indexCast v226
  let c99_1376 : Index := 99#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2829 : Index := Scalar.indexCast v382
  let c0_1377 : Index := 0#32
  ![0, v2828.toNat, 99, v2829.toNat, 0]
def k0_off928 (v1 : BitVec 32) (k0_t34 : Fin (k0_t34_loop v1).trips) (v228 : BitVec 32) (v257 : BitVec 32) (k0_t38 : Fin (k0_t38_loop v228 v257).trips) : Fin 5 → Nat :=
  let c0_1378 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2833 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v2834 : Index := Scalar.indexCast arg19
  let c1600 : Index := 1600#32
  let c0_1379 : Index := 0#32
  ![0, v2833.toNat, v2834.toNat, 1600, 0]
def k0_off929 (v330 : BitVec 32) : Fin 5 → Nat :=
  let c0_1380 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2838 : Index := Scalar.indexCast v347
  let c100 : Index := 100#32
  let c0_1381 : Index := 0#32
  let c0_1382 : Index := 0#32
  ![0, v2838.toNat, 100, 0, 0]
def k0_off930 (v1 : BitVec 32) (k0_t34 : Fin (k0_t34_loop v1).trips) (v228 : BitVec 32) (v257 : BitVec 32) (k0_t38 : Fin (k0_t38_loop v228 v257).trips) : Fin 5 → Nat :=
  let c0_1385 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2855 : Index := Scalar.indexCast v226
  let c100_1386 : Index := 100#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2856 : Index := Scalar.indexCast v382
  let c0_1387 : Index := 0#32
  ![0, v2855.toNat, 100, v2856.toNat, 0]
def k0_off931 (v330 : BitVec 32) : Fin 5 → Nat :=
  let c0_1388 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2860 : Index := Scalar.indexCast v347
  let c101 : Index := 101#32
  let c0_1389 : Index := 0#32
  let c0_1390 : Index := 0#32
  ![0, v2860.toNat, 101, 0, 0]
def k0_off932 (v1 : BitVec 32) (k0_t34 : Fin (k0_t34_loop v1).trips) (v228 : BitVec 32) (v257 : BitVec 32) (k0_t38 : Fin (k0_t38_loop v228 v257).trips) : Fin 5 → Nat :=
  let c0_1393 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2877 : Index := Scalar.indexCast v226
  let c101_1394 : Index := 101#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2878 : Index := Scalar.indexCast v382
  let c0_1395 : Index := 0#32
  ![0, v2877.toNat, 101, v2878.toNat, 0]
def k0_off933 (v1 : BitVec 32) (k0_t34 : Fin (k0_t34_loop v1).trips) (v228 : BitVec 32) (v257 : BitVec 32) (k0_t38 : Fin (k0_t38_loop v228 v257).trips) : Fin 5 → Nat :=
  let c0_1396 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2882 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v2883 : Index := Scalar.indexCast arg19
  let c1632 : Index := 1632#32
  let c0_1397 : Index := 0#32
  ![0, v2882.toNat, v2883.toNat, 1632, 0]
def k0_off934 (v330 : BitVec 32) : Fin 5 → Nat :=
  let c0_1398 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2887 : Index := Scalar.indexCast v347
  let c102 : Index := 102#32
  let c0_1399 : Index := 0#32
  let c0_1400 : Index := 0#32
  ![0, v2887.toNat, 102, 0, 0]
def k0_off935 (v1 : BitVec 32) (k0_t34 : Fin (k0_t34_loop v1).trips) (v228 : BitVec 32) (v257 : BitVec 32) (k0_t38 : Fin (k0_t38_loop v228 v257).trips) : Fin 5 → Nat :=
  let c0_1403 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2904 : Index := Scalar.indexCast v226
  let c102_1404 : Index := 102#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2905 : Index := Scalar.indexCast v382
  let c0_1405 : Index := 0#32
  ![0, v2904.toNat, 102, v2905.toNat, 0]
def k0_off936 (v330 : BitVec 32) : Fin 5 → Nat :=
  let c0_1406 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2909 : Index := Scalar.indexCast v347
  let c103 : Index := 103#32
  let c0_1407 : Index := 0#32
  let c0_1408 : Index := 0#32
  ![0, v2909.toNat, 103, 0, 0]
def k0_off937 (v1 : BitVec 32) (k0_t34 : Fin (k0_t34_loop v1).trips) (v228 : BitVec 32) (v257 : BitVec 32) (k0_t38 : Fin (k0_t38_loop v228 v257).trips) : Fin 5 → Nat :=
  let c0_1411 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2926 : Index := Scalar.indexCast v226
  let c103_1412 : Index := 103#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2927 : Index := Scalar.indexCast v382
  let c0_1413 : Index := 0#32
  ![0, v2926.toNat, 103, v2927.toNat, 0]
def k0_off938 (v1 : BitVec 32) (k0_t34 : Fin (k0_t34_loop v1).trips) (v228 : BitVec 32) (v257 : BitVec 32) (k0_t38 : Fin (k0_t38_loop v228 v257).trips) : Fin 5 → Nat :=
  let c0_1414 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2931 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v2932 : Index := Scalar.indexCast arg19
  let c1664 : Index := 1664#32
  let c0_1415 : Index := 0#32
  ![0, v2931.toNat, v2932.toNat, 1664, 0]
def k0_off939 (v330 : BitVec 32) : Fin 5 → Nat :=
  let c0_1416 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2936 : Index := Scalar.indexCast v347
  let c104 : Index := 104#32
  let c0_1417 : Index := 0#32
  let c0_1418 : Index := 0#32
  ![0, v2936.toNat, 104, 0, 0]
def k0_off940 (v1 : BitVec 32) (k0_t34 : Fin (k0_t34_loop v1).trips) (v228 : BitVec 32) (v257 : BitVec 32) (k0_t38 : Fin (k0_t38_loop v228 v257).trips) : Fin 5 → Nat :=
  let c0_1421 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2953 : Index := Scalar.indexCast v226
  let c104_1422 : Index := 104#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2954 : Index := Scalar.indexCast v382
  let c0_1423 : Index := 0#32
  ![0, v2953.toNat, 104, v2954.toNat, 0]
def k0_off941 (v330 : BitVec 32) : Fin 5 → Nat :=
  let c0_1424 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2958 : Index := Scalar.indexCast v347
  let c105 : Index := 105#32
  let c0_1425 : Index := 0#32
  let c0_1426 : Index := 0#32
  ![0, v2958.toNat, 105, 0, 0]
def k0_off942 (v1 : BitVec 32) (k0_t34 : Fin (k0_t34_loop v1).trips) (v228 : BitVec 32) (v257 : BitVec 32) (k0_t38 : Fin (k0_t38_loop v228 v257).trips) : Fin 5 → Nat :=
  let c0_1429 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2975 : Index := Scalar.indexCast v226
  let c105_1430 : Index := 105#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v2976 : Index := Scalar.indexCast v382
  let c0_1431 : Index := 0#32
  ![0, v2975.toNat, 105, v2976.toNat, 0]
def k0_off943 (v1 : BitVec 32) (k0_t34 : Fin (k0_t34_loop v1).trips) (v228 : BitVec 32) (v257 : BitVec 32) (k0_t38 : Fin (k0_t38_loop v228 v257).trips) : Fin 5 → Nat :=
  let c0_1432 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2980 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let v2981 : Index := Scalar.indexCast arg19
  let c1696 : Index := 1696#32
  let c0_1433 : Index := 0#32
  ![0, v2980.toNat, v2981.toNat, 1696, 0]
def k0_off944 (v330 : BitVec 32) : Fin 5 → Nat :=
  let c0_1434 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2985 : Index := Scalar.indexCast v347
  let c106 : Index := 106#32
  let c0_1435 : Index := 0#32
  let c0_1436 : Index := 0#32
  ![0, v2985.toNat, 106, 0, 0]
def k0_off945 (v1 : BitVec 32) (k0_t34 : Fin (k0_t34_loop v1).trips) (v228 : BitVec 32) (v257 : BitVec 32) (k0_t38 : Fin (k0_t38_loop v228 v257).trips) : Fin 5 → Nat :=
  let c0_1439 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v3002 : Index := Scalar.indexCast v226
  let c106_1440 : Index := 106#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v3003 : Index := Scalar.indexCast v382
  let c0_1441 : Index := 0#32
  ![0, v3002.toNat, 106, v3003.toNat, 0]
def k0_off946 (v330 : BitVec 32) : Fin 5 → Nat :=
  let c0_1442 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v3007 : Index := Scalar.indexCast v347
  let c107 : Index := 107#32
  let c0_1443 : Index := 0#32
  let c0_1444 : Index := 0#32
  ![0, v3007.toNat, 107, 0, 0]

def k0_chk23_0 (v330 : BitVec 32) : Prop :=
  (∀ a, (k0_off679 v330) a + S1x1x1x8x128.size a ≤ S2x10x108x8x128.size a) ∧
  (∀ a, (k0_off681 v330) a + S1x1x1x8x128.size a ≤ S2x10x108x8x128.size a) ∧
  (∀ a, (k0_off684 v330) a + S1x1x1x8x128.size a ≤ S2x10x108x8x128.size a) ∧
  (∀ a, (k0_off686 v330) a + S1x1x1x8x128.size a ≤ S2x10x108x8x128.size a) ∧
  (∀ a, (k0_off689 v330) a + S1x1x1x8x128.size a ≤ S2x10x108x8x128.size a) ∧
  (∀ a, (k0_off691 v330) a + S1x1x1x8x128.size a ≤ S2x10x108x8x128.size a) ∧
  (∀ a, (k0_off694 v330) a + S1x1x1x8x128.size a ≤ S2x10x108x8x128.size a) ∧
  (∀ a, (k0_off696 v330) a + S1x1x1x8x128.size a ≤ S2x10x108x8x128.size a) ∧
  (∀ a, (k0_off699 v330) a + S1x1x1x8x128.size a ≤ S2x10x108x8x128.size a) ∧
  (∀ a, (k0_off701 v330) a + S1x1x1x8x128.size a ≤ S2x10x108x8x128.size a) ∧
  (∀ a, (k0_off704 v330) a + S1x1x1x8x128.size a ≤ S2x10x108x8x128.size a) ∧
  (∀ a, (k0_off706 v330) a + S1x1x1x8x128.size a ≤ S2x10x108x8x128.size a) ∧
  (∀ a, (k0_off709 v330) a + S1x1x1x8x128.size a ≤ S2x10x108x8x128.size a) ∧
  (∀ a, (k0_off711 v330) a + S1x1x1x8x128.size a ≤ S2x10x108x8x128.size a) ∧
  (∀ a, (k0_off714 v330) a + S1x1x1x8x128.size a ≤ S2x10x108x8x128.size a) ∧
  (∀ a, (k0_off716 v330) a + S1x1x1x8x128.size a ≤ S2x10x108x8x128.size a) ∧
  (∀ a, (k0_off719 v330) a + S1x1x1x8x128.size a ≤ S2x10x108x8x128.size a) ∧
  (∀ a, (k0_off721 v330) a + S1x1x1x8x128.size a ≤ S2x10x108x8x128.size a) ∧
  (∀ a, (k0_off724 v330) a + S1x1x1x8x128.size a ≤ S2x10x108x8x128.size a) ∧
  (∀ a, (k0_off726 v330) a + S1x1x1x8x128.size a ≤ S2x10x108x8x128.size a) ∧
  (∀ a, (k0_off729 v330) a + S1x1x1x8x128.size a ≤ S2x10x108x8x128.size a) ∧
  (∀ a, (k0_off731 v330) a + S1x1x1x8x128.size a ≤ S2x10x108x8x128.size a) ∧
  (∀ a, (k0_off734 v330) a + S1x1x1x8x128.size a ≤ S2x10x108x8x128.size a) ∧
  (∀ a, (k0_off736 v330) a + S1x1x1x8x128.size a ≤ S2x10x108x8x128.size a) ∧
  (∀ a, (k0_off739 v330) a + S1x1x1x8x128.size a ≤ S2x10x108x8x128.size a) ∧
  (∀ a, (k0_off741 v330) a + S1x1x1x8x128.size a ≤ S2x10x108x8x128.size a) ∧
  (∀ a, (k0_off744 v330) a + S1x1x1x8x128.size a ≤ S2x10x108x8x128.size a) ∧
  (∀ a, (k0_off746 v330) a + S1x1x1x8x128.size a ≤ S2x10x108x8x128.size a) ∧
  (∀ a, (k0_off749 v330) a + S1x1x1x8x128.size a ≤ S2x10x108x8x128.size a) ∧
  (∀ a, (k0_off751 v330) a + S1x1x1x8x128.size a ≤ S2x10x108x8x128.size a) ∧
  (∀ a, (k0_off754 v330) a + S1x1x1x8x128.size a ≤ S2x10x108x8x128.size a) ∧
  (∀ a, (k0_off756 v330) a + S1x1x1x8x128.size a ≤ S2x10x108x8x128.size a)
def k0_chk23_1 (v330 : BitVec 32) : Prop :=
  (∀ a, (k0_off759 v330) a + S1x1x1x8x128.size a ≤ S2x10x108x8x128.size a) ∧
  (∀ a, (k0_off761 v330) a + S1x1x1x8x128.size a ≤ S2x10x108x8x128.size a) ∧
  (∀ a, (k0_off764 v330) a + S1x1x1x8x128.size a ≤ S2x10x108x8x128.size a) ∧
  (∀ a, (k0_off766 v330) a + S1x1x1x8x128.size a ≤ S2x10x108x8x128.size a) ∧
  (∀ a, (k0_off769 v330) a + S1x1x1x8x128.size a ≤ S2x10x108x8x128.size a) ∧
  (∀ a, (k0_off771 v330) a + S1x1x1x8x128.size a ≤ S2x10x108x8x128.size a) ∧
  (∀ a, (k0_off774 v330) a + S1x1x1x8x128.size a ≤ S2x10x108x8x128.size a) ∧
  (∀ a, (k0_off776 v330) a + S1x1x1x8x128.size a ≤ S2x10x108x8x128.size a) ∧
  (∀ a, (k0_off779 v330) a + S1x1x1x8x128.size a ≤ S2x10x108x8x128.size a) ∧
  (∀ a, (k0_off781 v330) a + S1x1x1x8x128.size a ≤ S2x10x108x8x128.size a) ∧
  (∀ a, (k0_off784 v330) a + S1x1x1x8x128.size a ≤ S2x10x108x8x128.size a) ∧
  (∀ a, (k0_off786 v330) a + S1x1x1x8x128.size a ≤ S2x10x108x8x128.size a) ∧
  (∀ a, (k0_off789 v330) a + S1x1x1x8x128.size a ≤ S2x10x108x8x128.size a) ∧
  (∀ a, (k0_off791 v330) a + S1x1x1x8x128.size a ≤ S2x10x108x8x128.size a) ∧
  (∀ a, (k0_off794 v330) a + S1x1x1x8x128.size a ≤ S2x10x108x8x128.size a) ∧
  (∀ a, (k0_off796 v330) a + S1x1x1x8x128.size a ≤ S2x10x108x8x128.size a) ∧
  (∀ a, (k0_off799 v330) a + S1x1x1x8x128.size a ≤ S2x10x108x8x128.size a) ∧
  (∀ a, (k0_off801 v330) a + S1x1x1x8x128.size a ≤ S2x10x108x8x128.size a) ∧
  (∀ a, (k0_off804 v330) a + S1x1x1x8x128.size a ≤ S2x10x108x8x128.size a) ∧
  (∀ a, (k0_off806 v330) a + S1x1x1x8x128.size a ≤ S2x10x108x8x128.size a) ∧
  (∀ a, (k0_off809 v330) a + S1x1x1x8x128.size a ≤ S2x10x108x8x128.size a) ∧
  (∀ a, (k0_off811 v330) a + S1x1x1x8x128.size a ≤ S2x10x108x8x128.size a) ∧
  (∀ a, (k0_off814 v330) a + S1x1x1x8x128.size a ≤ S2x10x108x8x128.size a) ∧
  (∀ a, (k0_off816 v330) a + S1x1x1x8x128.size a ≤ S2x10x108x8x128.size a) ∧
  (∀ a, (k0_off819 v330) a + S1x1x1x8x128.size a ≤ S2x10x108x8x128.size a) ∧
  (∀ a, (k0_off821 v330) a + S1x1x1x8x128.size a ≤ S2x10x108x8x128.size a) ∧
  (∀ a, (k0_off824 v330) a + S1x1x1x8x128.size a ≤ S2x10x108x8x128.size a) ∧
  (∀ a, (k0_off826 v330) a + S1x1x1x8x128.size a ≤ S2x10x108x8x128.size a) ∧
  (∀ a, (k0_off829 v330) a + S1x1x1x8x128.size a ≤ S2x10x108x8x128.size a) ∧
  (∀ a, (k0_off831 v330) a + S1x1x1x8x128.size a ≤ S2x10x108x8x128.size a) ∧
  (∀ a, (k0_off834 v330) a + S1x1x1x8x128.size a ≤ S2x10x108x8x128.size a) ∧
  (∀ a, (k0_off836 v330) a + S1x1x1x8x128.size a ≤ S2x10x108x8x128.size a)
def k0_chk23_2 (v330 : BitVec 32) : Prop :=
  (∀ a, (k0_off839 v330) a + S1x1x1x8x128.size a ≤ S2x10x108x8x128.size a) ∧
  (∀ a, (k0_off841 v330) a + S1x1x1x8x128.size a ≤ S2x10x108x8x128.size a) ∧
  (∀ a, (k0_off844 v330) a + S1x1x1x8x128.size a ≤ S2x10x108x8x128.size a) ∧
  (∀ a, (k0_off846 v330) a + S1x1x1x8x128.size a ≤ S2x10x108x8x128.size a) ∧
  (∀ a, (k0_off849 v330) a + S1x1x1x8x128.size a ≤ S2x10x108x8x128.size a) ∧
  (∀ a, (k0_off851 v330) a + S1x1x1x8x128.size a ≤ S2x10x108x8x128.size a) ∧
  (∀ a, (k0_off854 v330) a + S1x1x1x8x128.size a ≤ S2x10x108x8x128.size a) ∧
  (∀ a, (k0_off856 v330) a + S1x1x1x8x128.size a ≤ S2x10x108x8x128.size a) ∧
  (∀ a, (k0_off859 v330) a + S1x1x1x8x128.size a ≤ S2x10x108x8x128.size a) ∧
  (∀ a, (k0_off861 v330) a + S1x1x1x8x128.size a ≤ S2x10x108x8x128.size a) ∧
  (∀ a, (k0_off864 v330) a + S1x1x1x8x128.size a ≤ S2x10x108x8x128.size a) ∧
  (∀ a, (k0_off866 v330) a + S1x1x1x8x128.size a ≤ S2x10x108x8x128.size a) ∧
  (∀ a, (k0_off869 v330) a + S1x1x1x8x128.size a ≤ S2x10x108x8x128.size a) ∧
  (∀ a, (k0_off871 v330) a + S1x1x1x8x128.size a ≤ S2x10x108x8x128.size a) ∧
  (∀ a, (k0_off874 v330) a + S1x1x1x8x128.size a ≤ S2x10x108x8x128.size a) ∧
  (∀ a, (k0_off876 v330) a + S1x1x1x8x128.size a ≤ S2x10x108x8x128.size a) ∧
  (∀ a, (k0_off879 v330) a + S1x1x1x8x128.size a ≤ S2x10x108x8x128.size a) ∧
  (∀ a, (k0_off881 v330) a + S1x1x1x8x128.size a ≤ S2x10x108x8x128.size a) ∧
  (∀ a, (k0_off884 v330) a + S1x1x1x8x128.size a ≤ S2x10x108x8x128.size a) ∧
  (∀ a, (k0_off886 v330) a + S1x1x1x8x128.size a ≤ S2x10x108x8x128.size a) ∧
  (∀ a, (k0_off889 v330) a + S1x1x1x8x128.size a ≤ S2x10x108x8x128.size a) ∧
  (∀ a, (k0_off891 v330) a + S1x1x1x8x128.size a ≤ S2x10x108x8x128.size a) ∧
  (∀ a, (k0_off894 v330) a + S1x1x1x8x128.size a ≤ S2x10x108x8x128.size a) ∧
  (∀ a, (k0_off896 v330) a + S1x1x1x8x128.size a ≤ S2x10x108x8x128.size a) ∧
  (∀ a, (k0_off899 v330) a + S1x1x1x8x128.size a ≤ S2x10x108x8x128.size a) ∧
  (∀ a, (k0_off901 v330) a + S1x1x1x8x128.size a ≤ S2x10x108x8x128.size a) ∧
  (∀ a, (k0_off904 v330) a + S1x1x1x8x128.size a ≤ S2x10x108x8x128.size a) ∧
  (∀ a, (k0_off906 v330) a + S1x1x1x8x128.size a ≤ S2x10x108x8x128.size a) ∧
  (∀ a, (k0_off909 v330) a + S1x1x1x8x128.size a ≤ S2x10x108x8x128.size a) ∧
  (∀ a, (k0_off911 v330) a + S1x1x1x8x128.size a ≤ S2x10x108x8x128.size a) ∧
  (∀ a, (k0_off914 v330) a + S1x1x1x8x128.size a ≤ S2x10x108x8x128.size a) ∧
  (∀ a, (k0_off916 v330) a + S1x1x1x8x128.size a ≤ S2x10x108x8x128.size a)
def k0_chk23_3 (v330 : BitVec 32) : Prop :=
  (∀ a, (k0_off919 v330) a + S1x1x1x8x128.size a ≤ S2x10x108x8x128.size a) ∧
  (∀ a, (k0_off921 v330) a + S1x1x1x8x128.size a ≤ S2x10x108x8x128.size a) ∧
  (∀ a, (k0_off924 v330) a + S1x1x1x8x128.size a ≤ S2x10x108x8x128.size a) ∧
  (∀ a, (k0_off926 v330) a + S1x1x1x8x128.size a ≤ S2x10x108x8x128.size a) ∧
  (∀ a, (k0_off929 v330) a + S1x1x1x8x128.size a ≤ S2x10x108x8x128.size a) ∧
  (∀ a, (k0_off931 v330) a + S1x1x1x8x128.size a ≤ S2x10x108x8x128.size a) ∧
  (∀ a, (k0_off934 v330) a + S1x1x1x8x128.size a ≤ S2x10x108x8x128.size a) ∧
  (∀ a, (k0_off936 v330) a + S1x1x1x8x128.size a ≤ S2x10x108x8x128.size a) ∧
  (∀ a, (k0_off939 v330) a + S1x1x1x8x128.size a ≤ S2x10x108x8x128.size a) ∧
  (∀ a, (k0_off941 v330) a + S1x1x1x8x128.size a ≤ S2x10x108x8x128.size a) ∧
  (∀ a, (k0_off944 v330) a + S1x1x1x8x128.size a ≤ S2x10x108x8x128.size a) ∧
  (∀ a, (k0_off946 v330) a + S1x1x1x8x128.size a ≤ S2x10x108x8x128.size a)
def k0_chk23 (v330 : BitVec 32) : Prop :=
  k0_chk23_0 v330 ∧
  k0_chk23_1 v330 ∧
  k0_chk23_2 v330 ∧
  k0_chk23_3 v330
theorem k0_off679_inb : ∀ (v330 : BitVec 32) (k0_hw23 : k0_chk23 v330), ∀ a, (k0_off679 v330) a + S1x1x1x8x128.size a ≤ S2x10x108x8x128.size a := fun v330 k0_hw23 => k0_hw23.1.1
theorem k0_off681_inb : ∀ (v330 : BitVec 32) (k0_hw23 : k0_chk23 v330), ∀ a, (k0_off681 v330) a + S1x1x1x8x128.size a ≤ S2x10x108x8x128.size a := fun v330 k0_hw23 => k0_hw23.1.2.1
theorem k0_off684_inb : ∀ (v330 : BitVec 32) (k0_hw23 : k0_chk23 v330), ∀ a, (k0_off684 v330) a + S1x1x1x8x128.size a ≤ S2x10x108x8x128.size a := fun v330 k0_hw23 => k0_hw23.1.2.2.1
theorem k0_off686_inb : ∀ (v330 : BitVec 32) (k0_hw23 : k0_chk23 v330), ∀ a, (k0_off686 v330) a + S1x1x1x8x128.size a ≤ S2x10x108x8x128.size a := fun v330 k0_hw23 => k0_hw23.1.2.2.2.1
theorem k0_off689_inb : ∀ (v330 : BitVec 32) (k0_hw23 : k0_chk23 v330), ∀ a, (k0_off689 v330) a + S1x1x1x8x128.size a ≤ S2x10x108x8x128.size a := fun v330 k0_hw23 => k0_hw23.1.2.2.2.2.1
theorem k0_off691_inb : ∀ (v330 : BitVec 32) (k0_hw23 : k0_chk23 v330), ∀ a, (k0_off691 v330) a + S1x1x1x8x128.size a ≤ S2x10x108x8x128.size a := fun v330 k0_hw23 => k0_hw23.1.2.2.2.2.2.1
theorem k0_off694_inb : ∀ (v330 : BitVec 32) (k0_hw23 : k0_chk23 v330), ∀ a, (k0_off694 v330) a + S1x1x1x8x128.size a ≤ S2x10x108x8x128.size a := fun v330 k0_hw23 => k0_hw23.1.2.2.2.2.2.2.1
theorem k0_off696_inb : ∀ (v330 : BitVec 32) (k0_hw23 : k0_chk23 v330), ∀ a, (k0_off696 v330) a + S1x1x1x8x128.size a ≤ S2x10x108x8x128.size a := fun v330 k0_hw23 => k0_hw23.1.2.2.2.2.2.2.2.1
theorem k0_off699_inb : ∀ (v330 : BitVec 32) (k0_hw23 : k0_chk23 v330), ∀ a, (k0_off699 v330) a + S1x1x1x8x128.size a ≤ S2x10x108x8x128.size a := fun v330 k0_hw23 => k0_hw23.1.2.2.2.2.2.2.2.2.1
theorem k0_off701_inb : ∀ (v330 : BitVec 32) (k0_hw23 : k0_chk23 v330), ∀ a, (k0_off701 v330) a + S1x1x1x8x128.size a ≤ S2x10x108x8x128.size a := fun v330 k0_hw23 => k0_hw23.1.2.2.2.2.2.2.2.2.2.1
theorem k0_off704_inb : ∀ (v330 : BitVec 32) (k0_hw23 : k0_chk23 v330), ∀ a, (k0_off704 v330) a + S1x1x1x8x128.size a ≤ S2x10x108x8x128.size a := fun v330 k0_hw23 => k0_hw23.1.2.2.2.2.2.2.2.2.2.2.1
theorem k0_off706_inb : ∀ (v330 : BitVec 32) (k0_hw23 : k0_chk23 v330), ∀ a, (k0_off706 v330) a + S1x1x1x8x128.size a ≤ S2x10x108x8x128.size a := fun v330 k0_hw23 => k0_hw23.1.2.2.2.2.2.2.2.2.2.2.2.1
theorem k0_off709_inb : ∀ (v330 : BitVec 32) (k0_hw23 : k0_chk23 v330), ∀ a, (k0_off709 v330) a + S1x1x1x8x128.size a ≤ S2x10x108x8x128.size a := fun v330 k0_hw23 => k0_hw23.1.2.2.2.2.2.2.2.2.2.2.2.2.1
theorem k0_off711_inb : ∀ (v330 : BitVec 32) (k0_hw23 : k0_chk23 v330), ∀ a, (k0_off711 v330) a + S1x1x1x8x128.size a ≤ S2x10x108x8x128.size a := fun v330 k0_hw23 => k0_hw23.1.2.2.2.2.2.2.2.2.2.2.2.2.2.1
theorem k0_off714_inb : ∀ (v330 : BitVec 32) (k0_hw23 : k0_chk23 v330), ∀ a, (k0_off714 v330) a + S1x1x1x8x128.size a ≤ S2x10x108x8x128.size a := fun v330 k0_hw23 => k0_hw23.1.2.2.2.2.2.2.2.2.2.2.2.2.2.2.1
theorem k0_off716_inb : ∀ (v330 : BitVec 32) (k0_hw23 : k0_chk23 v330), ∀ a, (k0_off716 v330) a + S1x1x1x8x128.size a ≤ S2x10x108x8x128.size a := fun v330 k0_hw23 => k0_hw23.1.2.2.2.2.2.2.2.2.2.2.2.2.2.2.2.1
theorem k0_off719_inb : ∀ (v330 : BitVec 32) (k0_hw23 : k0_chk23 v330), ∀ a, (k0_off719 v330) a + S1x1x1x8x128.size a ≤ S2x10x108x8x128.size a := fun v330 k0_hw23 => k0_hw23.1.2.2.2.2.2.2.2.2.2.2.2.2.2.2.2.2.1
theorem k0_off721_inb : ∀ (v330 : BitVec 32) (k0_hw23 : k0_chk23 v330), ∀ a, (k0_off721 v330) a + S1x1x1x8x128.size a ≤ S2x10x108x8x128.size a := fun v330 k0_hw23 => k0_hw23.1.2.2.2.2.2.2.2.2.2.2.2.2.2.2.2.2.2.1
theorem k0_off724_inb : ∀ (v330 : BitVec 32) (k0_hw23 : k0_chk23 v330), ∀ a, (k0_off724 v330) a + S1x1x1x8x128.size a ≤ S2x10x108x8x128.size a := fun v330 k0_hw23 => k0_hw23.1.2.2.2.2.2.2.2.2.2.2.2.2.2.2.2.2.2.2.1
theorem k0_off726_inb : ∀ (v330 : BitVec 32) (k0_hw23 : k0_chk23 v330), ∀ a, (k0_off726 v330) a + S1x1x1x8x128.size a ≤ S2x10x108x8x128.size a := fun v330 k0_hw23 => k0_hw23.1.2.2.2.2.2.2.2.2.2.2.2.2.2.2.2.2.2.2.2.1
theorem k0_off729_inb : ∀ (v330 : BitVec 32) (k0_hw23 : k0_chk23 v330), ∀ a, (k0_off729 v330) a + S1x1x1x8x128.size a ≤ S2x10x108x8x128.size a := fun v330 k0_hw23 => k0_hw23.1.2.2.2.2.2.2.2.2.2.2.2.2.2.2.2.2.2.2.2.2.1
theorem k0_off731_inb : ∀ (v330 : BitVec 32) (k0_hw23 : k0_chk23 v330), ∀ a, (k0_off731 v330) a + S1x1x1x8x128.size a ≤ S2x10x108x8x128.size a := fun v330 k0_hw23 => k0_hw23.1.2.2.2.2.2.2.2.2.2.2.2.2.2.2.2.2.2.2.2.2.2.1
theorem k0_off734_inb : ∀ (v330 : BitVec 32) (k0_hw23 : k0_chk23 v330), ∀ a, (k0_off734 v330) a + S1x1x1x8x128.size a ≤ S2x10x108x8x128.size a := fun v330 k0_hw23 => k0_hw23.1.2.2.2.2.2.2.2.2.2.2.2.2.2.2.2.2.2.2.2.2.2.2.1
theorem k0_off736_inb : ∀ (v330 : BitVec 32) (k0_hw23 : k0_chk23 v330), ∀ a, (k0_off736 v330) a + S1x1x1x8x128.size a ≤ S2x10x108x8x128.size a := fun v330 k0_hw23 => k0_hw23.1.2.2.2.2.2.2.2.2.2.2.2.2.2.2.2.2.2.2.2.2.2.2.2.1
theorem k0_off739_inb : ∀ (v330 : BitVec 32) (k0_hw23 : k0_chk23 v330), ∀ a, (k0_off739 v330) a + S1x1x1x8x128.size a ≤ S2x10x108x8x128.size a := fun v330 k0_hw23 => k0_hw23.1.2.2.2.2.2.2.2.2.2.2.2.2.2.2.2.2.2.2.2.2.2.2.2.2.1
theorem k0_off741_inb : ∀ (v330 : BitVec 32) (k0_hw23 : k0_chk23 v330), ∀ a, (k0_off741 v330) a + S1x1x1x8x128.size a ≤ S2x10x108x8x128.size a := fun v330 k0_hw23 => k0_hw23.1.2.2.2.2.2.2.2.2.2.2.2.2.2.2.2.2.2.2.2.2.2.2.2.2.2.1
theorem k0_off744_inb : ∀ (v330 : BitVec 32) (k0_hw23 : k0_chk23 v330), ∀ a, (k0_off744 v330) a + S1x1x1x8x128.size a ≤ S2x10x108x8x128.size a := fun v330 k0_hw23 => k0_hw23.1.2.2.2.2.2.2.2.2.2.2.2.2.2.2.2.2.2.2.2.2.2.2.2.2.2.2.1
theorem k0_off746_inb : ∀ (v330 : BitVec 32) (k0_hw23 : k0_chk23 v330), ∀ a, (k0_off746 v330) a + S1x1x1x8x128.size a ≤ S2x10x108x8x128.size a := fun v330 k0_hw23 => k0_hw23.1.2.2.2.2.2.2.2.2.2.2.2.2.2.2.2.2.2.2.2.2.2.2.2.2.2.2.2.1
theorem k0_off749_inb : ∀ (v330 : BitVec 32) (k0_hw23 : k0_chk23 v330), ∀ a, (k0_off749 v330) a + S1x1x1x8x128.size a ≤ S2x10x108x8x128.size a := fun v330 k0_hw23 => k0_hw23.1.2.2.2.2.2.2.2.2.2.2.2.2.2.2.2.2.2.2.2.2.2.2.2.2.2.2.2.2.1
theorem k0_off751_inb : ∀ (v330 : BitVec 32) (k0_hw23 : k0_chk23 v330), ∀ a, (k0_off751 v330) a + S1x1x1x8x128.size a ≤ S2x10x108x8x128.size a := fun v330 k0_hw23 => k0_hw23.1.2.2.2.2.2.2.2.2.2.2.2.2.2.2.2.2.2.2.2.2.2.2.2.2.2.2.2.2.2.1
theorem k0_off754_inb : ∀ (v330 : BitVec 32) (k0_hw23 : k0_chk23 v330), ∀ a, (k0_off754 v330) a + S1x1x1x8x128.size a ≤ S2x10x108x8x128.size a := fun v330 k0_hw23 => k0_hw23.1.2.2.2.2.2.2.2.2.2.2.2.2.2.2.2.2.2.2.2.2.2.2.2.2.2.2.2.2.2.2.1
theorem k0_off756_inb : ∀ (v330 : BitVec 32) (k0_hw23 : k0_chk23 v330), ∀ a, (k0_off756 v330) a + S1x1x1x8x128.size a ≤ S2x10x108x8x128.size a := fun v330 k0_hw23 => k0_hw23.1.2.2.2.2.2.2.2.2.2.2.2.2.2.2.2.2.2.2.2.2.2.2.2.2.2.2.2.2.2.2.2
theorem k0_off759_inb : ∀ (v330 : BitVec 32) (k0_hw23 : k0_chk23 v330), ∀ a, (k0_off759 v330) a + S1x1x1x8x128.size a ≤ S2x10x108x8x128.size a := fun v330 k0_hw23 => k0_hw23.2.1.1
theorem k0_off761_inb : ∀ (v330 : BitVec 32) (k0_hw23 : k0_chk23 v330), ∀ a, (k0_off761 v330) a + S1x1x1x8x128.size a ≤ S2x10x108x8x128.size a := fun v330 k0_hw23 => k0_hw23.2.1.2.1
theorem k0_off764_inb : ∀ (v330 : BitVec 32) (k0_hw23 : k0_chk23 v330), ∀ a, (k0_off764 v330) a + S1x1x1x8x128.size a ≤ S2x10x108x8x128.size a := fun v330 k0_hw23 => k0_hw23.2.1.2.2.1
theorem k0_off766_inb : ∀ (v330 : BitVec 32) (k0_hw23 : k0_chk23 v330), ∀ a, (k0_off766 v330) a + S1x1x1x8x128.size a ≤ S2x10x108x8x128.size a := fun v330 k0_hw23 => k0_hw23.2.1.2.2.2.1
theorem k0_off769_inb : ∀ (v330 : BitVec 32) (k0_hw23 : k0_chk23 v330), ∀ a, (k0_off769 v330) a + S1x1x1x8x128.size a ≤ S2x10x108x8x128.size a := fun v330 k0_hw23 => k0_hw23.2.1.2.2.2.2.1
theorem k0_off771_inb : ∀ (v330 : BitVec 32) (k0_hw23 : k0_chk23 v330), ∀ a, (k0_off771 v330) a + S1x1x1x8x128.size a ≤ S2x10x108x8x128.size a := fun v330 k0_hw23 => k0_hw23.2.1.2.2.2.2.2.1
theorem k0_off774_inb : ∀ (v330 : BitVec 32) (k0_hw23 : k0_chk23 v330), ∀ a, (k0_off774 v330) a + S1x1x1x8x128.size a ≤ S2x10x108x8x128.size a := fun v330 k0_hw23 => k0_hw23.2.1.2.2.2.2.2.2.1
theorem k0_off776_inb : ∀ (v330 : BitVec 32) (k0_hw23 : k0_chk23 v330), ∀ a, (k0_off776 v330) a + S1x1x1x8x128.size a ≤ S2x10x108x8x128.size a := fun v330 k0_hw23 => k0_hw23.2.1.2.2.2.2.2.2.2.1
theorem k0_off779_inb : ∀ (v330 : BitVec 32) (k0_hw23 : k0_chk23 v330), ∀ a, (k0_off779 v330) a + S1x1x1x8x128.size a ≤ S2x10x108x8x128.size a := fun v330 k0_hw23 => k0_hw23.2.1.2.2.2.2.2.2.2.2.1
theorem k0_off781_inb : ∀ (v330 : BitVec 32) (k0_hw23 : k0_chk23 v330), ∀ a, (k0_off781 v330) a + S1x1x1x8x128.size a ≤ S2x10x108x8x128.size a := fun v330 k0_hw23 => k0_hw23.2.1.2.2.2.2.2.2.2.2.2.1
theorem k0_off784_inb : ∀ (v330 : BitVec 32) (k0_hw23 : k0_chk23 v330), ∀ a, (k0_off784 v330) a + S1x1x1x8x128.size a ≤ S2x10x108x8x128.size a := fun v330 k0_hw23 => k0_hw23.2.1.2.2.2.2.2.2.2.2.2.2.1
theorem k0_off786_inb : ∀ (v330 : BitVec 32) (k0_hw23 : k0_chk23 v330), ∀ a, (k0_off786 v330) a + S1x1x1x8x128.size a ≤ S2x10x108x8x128.size a := fun v330 k0_hw23 => k0_hw23.2.1.2.2.2.2.2.2.2.2.2.2.2.1
theorem k0_off789_inb : ∀ (v330 : BitVec 32) (k0_hw23 : k0_chk23 v330), ∀ a, (k0_off789 v330) a + S1x1x1x8x128.size a ≤ S2x10x108x8x128.size a := fun v330 k0_hw23 => k0_hw23.2.1.2.2.2.2.2.2.2.2.2.2.2.2.1
theorem k0_off791_inb : ∀ (v330 : BitVec 32) (k0_hw23 : k0_chk23 v330), ∀ a, (k0_off791 v330) a + S1x1x1x8x128.size a ≤ S2x10x108x8x128.size a := fun v330 k0_hw23 => k0_hw23.2.1.2.2.2.2.2.2.2.2.2.2.2.2.2.1
theorem k0_off794_inb : ∀ (v330 : BitVec 32) (k0_hw23 : k0_chk23 v330), ∀ a, (k0_off794 v330) a + S1x1x1x8x128.size a ≤ S2x10x108x8x128.size a := fun v330 k0_hw23 => k0_hw23.2.1.2.2.2.2.2.2.2.2.2.2.2.2.2.2.1
theorem k0_off796_inb : ∀ (v330 : BitVec 32) (k0_hw23 : k0_chk23 v330), ∀ a, (k0_off796 v330) a + S1x1x1x8x128.size a ≤ S2x10x108x8x128.size a := fun v330 k0_hw23 => k0_hw23.2.1.2.2.2.2.2.2.2.2.2.2.2.2.2.2.2.1
theorem k0_off799_inb : ∀ (v330 : BitVec 32) (k0_hw23 : k0_chk23 v330), ∀ a, (k0_off799 v330) a + S1x1x1x8x128.size a ≤ S2x10x108x8x128.size a := fun v330 k0_hw23 => k0_hw23.2.1.2.2.2.2.2.2.2.2.2.2.2.2.2.2.2.2.1
theorem k0_off801_inb : ∀ (v330 : BitVec 32) (k0_hw23 : k0_chk23 v330), ∀ a, (k0_off801 v330) a + S1x1x1x8x128.size a ≤ S2x10x108x8x128.size a := fun v330 k0_hw23 => k0_hw23.2.1.2.2.2.2.2.2.2.2.2.2.2.2.2.2.2.2.2.1
theorem k0_off804_inb : ∀ (v330 : BitVec 32) (k0_hw23 : k0_chk23 v330), ∀ a, (k0_off804 v330) a + S1x1x1x8x128.size a ≤ S2x10x108x8x128.size a := fun v330 k0_hw23 => k0_hw23.2.1.2.2.2.2.2.2.2.2.2.2.2.2.2.2.2.2.2.2.1
theorem k0_off806_inb : ∀ (v330 : BitVec 32) (k0_hw23 : k0_chk23 v330), ∀ a, (k0_off806 v330) a + S1x1x1x8x128.size a ≤ S2x10x108x8x128.size a := fun v330 k0_hw23 => k0_hw23.2.1.2.2.2.2.2.2.2.2.2.2.2.2.2.2.2.2.2.2.2.1
theorem k0_off809_inb : ∀ (v330 : BitVec 32) (k0_hw23 : k0_chk23 v330), ∀ a, (k0_off809 v330) a + S1x1x1x8x128.size a ≤ S2x10x108x8x128.size a := fun v330 k0_hw23 => k0_hw23.2.1.2.2.2.2.2.2.2.2.2.2.2.2.2.2.2.2.2.2.2.2.1
theorem k0_off811_inb : ∀ (v330 : BitVec 32) (k0_hw23 : k0_chk23 v330), ∀ a, (k0_off811 v330) a + S1x1x1x8x128.size a ≤ S2x10x108x8x128.size a := fun v330 k0_hw23 => k0_hw23.2.1.2.2.2.2.2.2.2.2.2.2.2.2.2.2.2.2.2.2.2.2.2.1
theorem k0_off814_inb : ∀ (v330 : BitVec 32) (k0_hw23 : k0_chk23 v330), ∀ a, (k0_off814 v330) a + S1x1x1x8x128.size a ≤ S2x10x108x8x128.size a := fun v330 k0_hw23 => k0_hw23.2.1.2.2.2.2.2.2.2.2.2.2.2.2.2.2.2.2.2.2.2.2.2.2.1
theorem k0_off816_inb : ∀ (v330 : BitVec 32) (k0_hw23 : k0_chk23 v330), ∀ a, (k0_off816 v330) a + S1x1x1x8x128.size a ≤ S2x10x108x8x128.size a := fun v330 k0_hw23 => k0_hw23.2.1.2.2.2.2.2.2.2.2.2.2.2.2.2.2.2.2.2.2.2.2.2.2.2.1
theorem k0_off819_inb : ∀ (v330 : BitVec 32) (k0_hw23 : k0_chk23 v330), ∀ a, (k0_off819 v330) a + S1x1x1x8x128.size a ≤ S2x10x108x8x128.size a := fun v330 k0_hw23 => k0_hw23.2.1.2.2.2.2.2.2.2.2.2.2.2.2.2.2.2.2.2.2.2.2.2.2.2.2.1
theorem k0_off821_inb : ∀ (v330 : BitVec 32) (k0_hw23 : k0_chk23 v330), ∀ a, (k0_off821 v330) a + S1x1x1x8x128.size a ≤ S2x10x108x8x128.size a := fun v330 k0_hw23 => k0_hw23.2.1.2.2.2.2.2.2.2.2.2.2.2.2.2.2.2.2.2.2.2.2.2.2.2.2.2.1
theorem k0_off824_inb : ∀ (v330 : BitVec 32) (k0_hw23 : k0_chk23 v330), ∀ a, (k0_off824 v330) a + S1x1x1x8x128.size a ≤ S2x10x108x8x128.size a := fun v330 k0_hw23 => k0_hw23.2.1.2.2.2.2.2.2.2.2.2.2.2.2.2.2.2.2.2.2.2.2.2.2.2.2.2.2.1
theorem k0_off826_inb : ∀ (v330 : BitVec 32) (k0_hw23 : k0_chk23 v330), ∀ a, (k0_off826 v330) a + S1x1x1x8x128.size a ≤ S2x10x108x8x128.size a := fun v330 k0_hw23 => k0_hw23.2.1.2.2.2.2.2.2.2.2.2.2.2.2.2.2.2.2.2.2.2.2.2.2.2.2.2.2.2.1
theorem k0_off829_inb : ∀ (v330 : BitVec 32) (k0_hw23 : k0_chk23 v330), ∀ a, (k0_off829 v330) a + S1x1x1x8x128.size a ≤ S2x10x108x8x128.size a := fun v330 k0_hw23 => k0_hw23.2.1.2.2.2.2.2.2.2.2.2.2.2.2.2.2.2.2.2.2.2.2.2.2.2.2.2.2.2.2.1
theorem k0_off831_inb : ∀ (v330 : BitVec 32) (k0_hw23 : k0_chk23 v330), ∀ a, (k0_off831 v330) a + S1x1x1x8x128.size a ≤ S2x10x108x8x128.size a := fun v330 k0_hw23 => k0_hw23.2.1.2.2.2.2.2.2.2.2.2.2.2.2.2.2.2.2.2.2.2.2.2.2.2.2.2.2.2.2.2.1
theorem k0_off834_inb : ∀ (v330 : BitVec 32) (k0_hw23 : k0_chk23 v330), ∀ a, (k0_off834 v330) a + S1x1x1x8x128.size a ≤ S2x10x108x8x128.size a := fun v330 k0_hw23 => k0_hw23.2.1.2.2.2.2.2.2.2.2.2.2.2.2.2.2.2.2.2.2.2.2.2.2.2.2.2.2.2.2.2.2.1
theorem k0_off836_inb : ∀ (v330 : BitVec 32) (k0_hw23 : k0_chk23 v330), ∀ a, (k0_off836 v330) a + S1x1x1x8x128.size a ≤ S2x10x108x8x128.size a := fun v330 k0_hw23 => k0_hw23.2.1.2.2.2.2.2.2.2.2.2.2.2.2.2.2.2.2.2.2.2.2.2.2.2.2.2.2.2.2.2.2.2
theorem k0_off839_inb : ∀ (v330 : BitVec 32) (k0_hw23 : k0_chk23 v330), ∀ a, (k0_off839 v330) a + S1x1x1x8x128.size a ≤ S2x10x108x8x128.size a := fun v330 k0_hw23 => k0_hw23.2.2.1.1
theorem k0_off841_inb : ∀ (v330 : BitVec 32) (k0_hw23 : k0_chk23 v330), ∀ a, (k0_off841 v330) a + S1x1x1x8x128.size a ≤ S2x10x108x8x128.size a := fun v330 k0_hw23 => k0_hw23.2.2.1.2.1
theorem k0_off844_inb : ∀ (v330 : BitVec 32) (k0_hw23 : k0_chk23 v330), ∀ a, (k0_off844 v330) a + S1x1x1x8x128.size a ≤ S2x10x108x8x128.size a := fun v330 k0_hw23 => k0_hw23.2.2.1.2.2.1
theorem k0_off846_inb : ∀ (v330 : BitVec 32) (k0_hw23 : k0_chk23 v330), ∀ a, (k0_off846 v330) a + S1x1x1x8x128.size a ≤ S2x10x108x8x128.size a := fun v330 k0_hw23 => k0_hw23.2.2.1.2.2.2.1
theorem k0_off849_inb : ∀ (v330 : BitVec 32) (k0_hw23 : k0_chk23 v330), ∀ a, (k0_off849 v330) a + S1x1x1x8x128.size a ≤ S2x10x108x8x128.size a := fun v330 k0_hw23 => k0_hw23.2.2.1.2.2.2.2.1
theorem k0_off851_inb : ∀ (v330 : BitVec 32) (k0_hw23 : k0_chk23 v330), ∀ a, (k0_off851 v330) a + S1x1x1x8x128.size a ≤ S2x10x108x8x128.size a := fun v330 k0_hw23 => k0_hw23.2.2.1.2.2.2.2.2.1
theorem k0_off854_inb : ∀ (v330 : BitVec 32) (k0_hw23 : k0_chk23 v330), ∀ a, (k0_off854 v330) a + S1x1x1x8x128.size a ≤ S2x10x108x8x128.size a := fun v330 k0_hw23 => k0_hw23.2.2.1.2.2.2.2.2.2.1
theorem k0_off856_inb : ∀ (v330 : BitVec 32) (k0_hw23 : k0_chk23 v330), ∀ a, (k0_off856 v330) a + S1x1x1x8x128.size a ≤ S2x10x108x8x128.size a := fun v330 k0_hw23 => k0_hw23.2.2.1.2.2.2.2.2.2.2.1
theorem k0_off859_inb : ∀ (v330 : BitVec 32) (k0_hw23 : k0_chk23 v330), ∀ a, (k0_off859 v330) a + S1x1x1x8x128.size a ≤ S2x10x108x8x128.size a := fun v330 k0_hw23 => k0_hw23.2.2.1.2.2.2.2.2.2.2.2.1
theorem k0_off861_inb : ∀ (v330 : BitVec 32) (k0_hw23 : k0_chk23 v330), ∀ a, (k0_off861 v330) a + S1x1x1x8x128.size a ≤ S2x10x108x8x128.size a := fun v330 k0_hw23 => k0_hw23.2.2.1.2.2.2.2.2.2.2.2.2.1
theorem k0_off864_inb : ∀ (v330 : BitVec 32) (k0_hw23 : k0_chk23 v330), ∀ a, (k0_off864 v330) a + S1x1x1x8x128.size a ≤ S2x10x108x8x128.size a := fun v330 k0_hw23 => k0_hw23.2.2.1.2.2.2.2.2.2.2.2.2.2.1
theorem k0_off866_inb : ∀ (v330 : BitVec 32) (k0_hw23 : k0_chk23 v330), ∀ a, (k0_off866 v330) a + S1x1x1x8x128.size a ≤ S2x10x108x8x128.size a := fun v330 k0_hw23 => k0_hw23.2.2.1.2.2.2.2.2.2.2.2.2.2.2.1
theorem k0_off869_inb : ∀ (v330 : BitVec 32) (k0_hw23 : k0_chk23 v330), ∀ a, (k0_off869 v330) a + S1x1x1x8x128.size a ≤ S2x10x108x8x128.size a := fun v330 k0_hw23 => k0_hw23.2.2.1.2.2.2.2.2.2.2.2.2.2.2.2.1
theorem k0_off871_inb : ∀ (v330 : BitVec 32) (k0_hw23 : k0_chk23 v330), ∀ a, (k0_off871 v330) a + S1x1x1x8x128.size a ≤ S2x10x108x8x128.size a := fun v330 k0_hw23 => k0_hw23.2.2.1.2.2.2.2.2.2.2.2.2.2.2.2.2.1
theorem k0_off874_inb : ∀ (v330 : BitVec 32) (k0_hw23 : k0_chk23 v330), ∀ a, (k0_off874 v330) a + S1x1x1x8x128.size a ≤ S2x10x108x8x128.size a := fun v330 k0_hw23 => k0_hw23.2.2.1.2.2.2.2.2.2.2.2.2.2.2.2.2.2.1
theorem k0_off876_inb : ∀ (v330 : BitVec 32) (k0_hw23 : k0_chk23 v330), ∀ a, (k0_off876 v330) a + S1x1x1x8x128.size a ≤ S2x10x108x8x128.size a := fun v330 k0_hw23 => k0_hw23.2.2.1.2.2.2.2.2.2.2.2.2.2.2.2.2.2.2.1
theorem k0_off879_inb : ∀ (v330 : BitVec 32) (k0_hw23 : k0_chk23 v330), ∀ a, (k0_off879 v330) a + S1x1x1x8x128.size a ≤ S2x10x108x8x128.size a := fun v330 k0_hw23 => k0_hw23.2.2.1.2.2.2.2.2.2.2.2.2.2.2.2.2.2.2.2.1
theorem k0_off881_inb : ∀ (v330 : BitVec 32) (k0_hw23 : k0_chk23 v330), ∀ a, (k0_off881 v330) a + S1x1x1x8x128.size a ≤ S2x10x108x8x128.size a := fun v330 k0_hw23 => k0_hw23.2.2.1.2.2.2.2.2.2.2.2.2.2.2.2.2.2.2.2.2.1
theorem k0_off884_inb : ∀ (v330 : BitVec 32) (k0_hw23 : k0_chk23 v330), ∀ a, (k0_off884 v330) a + S1x1x1x8x128.size a ≤ S2x10x108x8x128.size a := fun v330 k0_hw23 => k0_hw23.2.2.1.2.2.2.2.2.2.2.2.2.2.2.2.2.2.2.2.2.2.1
theorem k0_off886_inb : ∀ (v330 : BitVec 32) (k0_hw23 : k0_chk23 v330), ∀ a, (k0_off886 v330) a + S1x1x1x8x128.size a ≤ S2x10x108x8x128.size a := fun v330 k0_hw23 => k0_hw23.2.2.1.2.2.2.2.2.2.2.2.2.2.2.2.2.2.2.2.2.2.2.1
theorem k0_off889_inb : ∀ (v330 : BitVec 32) (k0_hw23 : k0_chk23 v330), ∀ a, (k0_off889 v330) a + S1x1x1x8x128.size a ≤ S2x10x108x8x128.size a := fun v330 k0_hw23 => k0_hw23.2.2.1.2.2.2.2.2.2.2.2.2.2.2.2.2.2.2.2.2.2.2.2.1
theorem k0_off891_inb : ∀ (v330 : BitVec 32) (k0_hw23 : k0_chk23 v330), ∀ a, (k0_off891 v330) a + S1x1x1x8x128.size a ≤ S2x10x108x8x128.size a := fun v330 k0_hw23 => k0_hw23.2.2.1.2.2.2.2.2.2.2.2.2.2.2.2.2.2.2.2.2.2.2.2.2.1
theorem k0_off894_inb : ∀ (v330 : BitVec 32) (k0_hw23 : k0_chk23 v330), ∀ a, (k0_off894 v330) a + S1x1x1x8x128.size a ≤ S2x10x108x8x128.size a := fun v330 k0_hw23 => k0_hw23.2.2.1.2.2.2.2.2.2.2.2.2.2.2.2.2.2.2.2.2.2.2.2.2.2.1
theorem k0_off896_inb : ∀ (v330 : BitVec 32) (k0_hw23 : k0_chk23 v330), ∀ a, (k0_off896 v330) a + S1x1x1x8x128.size a ≤ S2x10x108x8x128.size a := fun v330 k0_hw23 => k0_hw23.2.2.1.2.2.2.2.2.2.2.2.2.2.2.2.2.2.2.2.2.2.2.2.2.2.2.1
theorem k0_off899_inb : ∀ (v330 : BitVec 32) (k0_hw23 : k0_chk23 v330), ∀ a, (k0_off899 v330) a + S1x1x1x8x128.size a ≤ S2x10x108x8x128.size a := fun v330 k0_hw23 => k0_hw23.2.2.1.2.2.2.2.2.2.2.2.2.2.2.2.2.2.2.2.2.2.2.2.2.2.2.2.1
theorem k0_off901_inb : ∀ (v330 : BitVec 32) (k0_hw23 : k0_chk23 v330), ∀ a, (k0_off901 v330) a + S1x1x1x8x128.size a ≤ S2x10x108x8x128.size a := fun v330 k0_hw23 => k0_hw23.2.2.1.2.2.2.2.2.2.2.2.2.2.2.2.2.2.2.2.2.2.2.2.2.2.2.2.2.1
theorem k0_off904_inb : ∀ (v330 : BitVec 32) (k0_hw23 : k0_chk23 v330), ∀ a, (k0_off904 v330) a + S1x1x1x8x128.size a ≤ S2x10x108x8x128.size a := fun v330 k0_hw23 => k0_hw23.2.2.1.2.2.2.2.2.2.2.2.2.2.2.2.2.2.2.2.2.2.2.2.2.2.2.2.2.2.1
theorem k0_off906_inb : ∀ (v330 : BitVec 32) (k0_hw23 : k0_chk23 v330), ∀ a, (k0_off906 v330) a + S1x1x1x8x128.size a ≤ S2x10x108x8x128.size a := fun v330 k0_hw23 => k0_hw23.2.2.1.2.2.2.2.2.2.2.2.2.2.2.2.2.2.2.2.2.2.2.2.2.2.2.2.2.2.2.1
theorem k0_off909_inb : ∀ (v330 : BitVec 32) (k0_hw23 : k0_chk23 v330), ∀ a, (k0_off909 v330) a + S1x1x1x8x128.size a ≤ S2x10x108x8x128.size a := fun v330 k0_hw23 => k0_hw23.2.2.1.2.2.2.2.2.2.2.2.2.2.2.2.2.2.2.2.2.2.2.2.2.2.2.2.2.2.2.2.1
theorem k0_off911_inb : ∀ (v330 : BitVec 32) (k0_hw23 : k0_chk23 v330), ∀ a, (k0_off911 v330) a + S1x1x1x8x128.size a ≤ S2x10x108x8x128.size a := fun v330 k0_hw23 => k0_hw23.2.2.1.2.2.2.2.2.2.2.2.2.2.2.2.2.2.2.2.2.2.2.2.2.2.2.2.2.2.2.2.2.1
theorem k0_off914_inb : ∀ (v330 : BitVec 32) (k0_hw23 : k0_chk23 v330), ∀ a, (k0_off914 v330) a + S1x1x1x8x128.size a ≤ S2x10x108x8x128.size a := fun v330 k0_hw23 => k0_hw23.2.2.1.2.2.2.2.2.2.2.2.2.2.2.2.2.2.2.2.2.2.2.2.2.2.2.2.2.2.2.2.2.2.1
theorem k0_off916_inb : ∀ (v330 : BitVec 32) (k0_hw23 : k0_chk23 v330), ∀ a, (k0_off916 v330) a + S1x1x1x8x128.size a ≤ S2x10x108x8x128.size a := fun v330 k0_hw23 => k0_hw23.2.2.1.2.2.2.2.2.2.2.2.2.2.2.2.2.2.2.2.2.2.2.2.2.2.2.2.2.2.2.2.2.2.2
theorem k0_off919_inb : ∀ (v330 : BitVec 32) (k0_hw23 : k0_chk23 v330), ∀ a, (k0_off919 v330) a + S1x1x1x8x128.size a ≤ S2x10x108x8x128.size a := fun v330 k0_hw23 => k0_hw23.2.2.2.1
theorem k0_off921_inb : ∀ (v330 : BitVec 32) (k0_hw23 : k0_chk23 v330), ∀ a, (k0_off921 v330) a + S1x1x1x8x128.size a ≤ S2x10x108x8x128.size a := fun v330 k0_hw23 => k0_hw23.2.2.2.2.1
theorem k0_off924_inb : ∀ (v330 : BitVec 32) (k0_hw23 : k0_chk23 v330), ∀ a, (k0_off924 v330) a + S1x1x1x8x128.size a ≤ S2x10x108x8x128.size a := fun v330 k0_hw23 => k0_hw23.2.2.2.2.2.1
theorem k0_off926_inb : ∀ (v330 : BitVec 32) (k0_hw23 : k0_chk23 v330), ∀ a, (k0_off926 v330) a + S1x1x1x8x128.size a ≤ S2x10x108x8x128.size a := fun v330 k0_hw23 => k0_hw23.2.2.2.2.2.2.1
theorem k0_off929_inb : ∀ (v330 : BitVec 32) (k0_hw23 : k0_chk23 v330), ∀ a, (k0_off929 v330) a + S1x1x1x8x128.size a ≤ S2x10x108x8x128.size a := fun v330 k0_hw23 => k0_hw23.2.2.2.2.2.2.2.1
theorem k0_off931_inb : ∀ (v330 : BitVec 32) (k0_hw23 : k0_chk23 v330), ∀ a, (k0_off931 v330) a + S1x1x1x8x128.size a ≤ S2x10x108x8x128.size a := fun v330 k0_hw23 => k0_hw23.2.2.2.2.2.2.2.2.1
theorem k0_off934_inb : ∀ (v330 : BitVec 32) (k0_hw23 : k0_chk23 v330), ∀ a, (k0_off934 v330) a + S1x1x1x8x128.size a ≤ S2x10x108x8x128.size a := fun v330 k0_hw23 => k0_hw23.2.2.2.2.2.2.2.2.2.1
theorem k0_off936_inb : ∀ (v330 : BitVec 32) (k0_hw23 : k0_chk23 v330), ∀ a, (k0_off936 v330) a + S1x1x1x8x128.size a ≤ S2x10x108x8x128.size a := fun v330 k0_hw23 => k0_hw23.2.2.2.2.2.2.2.2.2.2.1
theorem k0_off939_inb : ∀ (v330 : BitVec 32) (k0_hw23 : k0_chk23 v330), ∀ a, (k0_off939 v330) a + S1x1x1x8x128.size a ≤ S2x10x108x8x128.size a := fun v330 k0_hw23 => k0_hw23.2.2.2.2.2.2.2.2.2.2.2.1
theorem k0_off941_inb : ∀ (v330 : BitVec 32) (k0_hw23 : k0_chk23 v330), ∀ a, (k0_off941 v330) a + S1x1x1x8x128.size a ≤ S2x10x108x8x128.size a := fun v330 k0_hw23 => k0_hw23.2.2.2.2.2.2.2.2.2.2.2.2.1
theorem k0_off944_inb : ∀ (v330 : BitVec 32) (k0_hw23 : k0_chk23 v330), ∀ a, (k0_off944 v330) a + S1x1x1x8x128.size a ≤ S2x10x108x8x128.size a := fun v330 k0_hw23 => k0_hw23.2.2.2.2.2.2.2.2.2.2.2.2.2.1
theorem k0_off946_inb : ∀ (v330 : BitVec 32) (k0_hw23 : k0_chk23 v330), ∀ a, (k0_off946 v330) a + S1x1x1x8x128.size a ≤ S2x10x108x8x128.size a := fun v330 k0_hw23 => k0_hw23.2.2.2.2.2.2.2.2.2.2.2.2.2.2

def k0_off947 (v1 : BitVec 32) (k0_t34 : Fin (k0_t34_loop v1).trips) (v228 : BitVec 32) (v257 : BitVec 32) (k0_t38 : Fin (k0_t38_loop v228 v257).trips) : Fin 5 → Nat :=
  let c0_1447 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v3024 : Index := Scalar.indexCast v226
  let c107_1448 : Index := 107#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t38
  let c16_i32_473 : BitVec 32 := 16#32
  let v381 : BitVec 32 := Scalar.muli arg19 c16_i32_473
  let v382 : BitVec 32 := v381
  let v3025 : Index := Scalar.indexCast v382
  let c0_1449 : Index := 0#32
  ![0, v3024.toNat, 107, v3025.toNat, 0]
@[reducible] def k0_t39_loop (v228 : BitVec 32) (v257 : BitVec 32) : Scf.Loop 32 :=
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_413 : BitVec 32 := 1#32
  ⟨v265, v283, c1_i32_413⟩
def k0_mult8 (v228 : BitVec 32) (v257 : BitVec 32) (k0_t39 : Fin (k0_t39_loop v228 v257).trips) : BitVec 32 :=
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  v326
def k0_off948 (v1 : BitVec 32) (k0_t34 : Fin (k0_t34_loop v1).trips) (v228 : BitVec 32) (v257 : BitVec 32) (k0_t39 : Fin (k0_t39_loop v228 v257).trips) : Fin 5 → Nat :=
  let c0 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v329 : Index := Scalar.indexCast v226
  let c0_453 : Index := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v330 : Index := Scalar.indexCast v327
  let c0_454 : Index := 0#32
  ![0, v329.toNat, 0, v330.toNat, 0]
def k0_off949 (v1 : BitVec 32) (k0_t34 : Fin (k0_t34_loop v1).trips) (v228 : BitVec 32) (v257 : BitVec 32) (k0_t39 : Fin (k0_t39_loop v228 v257).trips) : Fin 5 → Nat :=
  let c0_456 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v335 : Index := Scalar.indexCast v226
  let c1 : Index := 1#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v336 : Index := Scalar.indexCast v327
  let c0_457 : Index := 0#32
  ![0, v335.toNat, 1, v336.toNat, 0]
def k0_off950 (v1 : BitVec 32) (k0_t34 : Fin (k0_t34_loop v1).trips) (v228 : BitVec 32) (v257 : BitVec 32) (k0_t39 : Fin (k0_t39_loop v228 v257).trips) : Fin 5 → Nat :=
  let c0_459 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v341 : Index := Scalar.indexCast v226
  let c2 : Index := 2#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v342 : Index := Scalar.indexCast v327
  let c0_460 : Index := 0#32
  ![0, v341.toNat, 2, v342.toNat, 0]
def k0_off951 (v1 : BitVec 32) (k0_t34 : Fin (k0_t34_loop v1).trips) (v228 : BitVec 32) (v257 : BitVec 32) (k0_t39 : Fin (k0_t39_loop v228 v257).trips) : Fin 5 → Nat :=
  let c0_462 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v347 : Index := Scalar.indexCast v226
  let c3 : Index := 3#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v348 : Index := Scalar.indexCast v327
  let c0_463 : Index := 0#32
  ![0, v347.toNat, 3, v348.toNat, 0]
def k0_off952 (v1 : BitVec 32) (k0_t34 : Fin (k0_t34_loop v1).trips) (v228 : BitVec 32) (v257 : BitVec 32) (k0_t39 : Fin (k0_t39_loop v228 v257).trips) : Fin 5 → Nat :=
  let c0_465 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v353 : Index := Scalar.indexCast v226
  let c4 : Index := 4#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v354 : Index := Scalar.indexCast v327
  let c0_466 : Index := 0#32
  ![0, v353.toNat, 4, v354.toNat, 0]
def k0_off953 (v1 : BitVec 32) (k0_t34 : Fin (k0_t34_loop v1).trips) (v228 : BitVec 32) (v257 : BitVec 32) (k0_t39 : Fin (k0_t39_loop v228 v257).trips) : Fin 5 → Nat :=
  let c0_468 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v359 : Index := Scalar.indexCast v226
  let c5 : Index := 5#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v360 : Index := Scalar.indexCast v327
  let c0_469 : Index := 0#32
  ![0, v359.toNat, 5, v360.toNat, 0]
def k0_off954 (v1 : BitVec 32) (k0_t34 : Fin (k0_t34_loop v1).trips) (v228 : BitVec 32) (v257 : BitVec 32) (k0_t39 : Fin (k0_t39_loop v228 v257).trips) : Fin 5 → Nat :=
  let c0_471 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v365 : Index := Scalar.indexCast v226
  let c6 : Index := 6#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v366 : Index := Scalar.indexCast v327
  let c0_472 : Index := 0#32
  ![0, v365.toNat, 6, v366.toNat, 0]
def k0_off955 (v1 : BitVec 32) (k0_t34 : Fin (k0_t34_loop v1).trips) (v228 : BitVec 32) (v257 : BitVec 32) (k0_t39 : Fin (k0_t39_loop v228 v257).trips) : Fin 5 → Nat :=
  let c0_474 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v371 : Index := Scalar.indexCast v226
  let c7 : Index := 7#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v372 : Index := Scalar.indexCast v327
  let c0_475 : Index := 0#32
  ![0, v371.toNat, 7, v372.toNat, 0]
def k0_off956 (v1 : BitVec 32) (k0_t34 : Fin (k0_t34_loop v1).trips) (v228 : BitVec 32) (v257 : BitVec 32) (k0_t39 : Fin (k0_t39_loop v228 v257).trips) : Fin 5 → Nat :=
  let c0_477 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v377 : Index := Scalar.indexCast v226
  let c8 : Index := 8#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v378 : Index := Scalar.indexCast v327
  let c0_478 : Index := 0#32
  ![0, v377.toNat, 8, v378.toNat, 0]
def k0_off957 (v1 : BitVec 32) (k0_t34 : Fin (k0_t34_loop v1).trips) (v228 : BitVec 32) (v257 : BitVec 32) (k0_t39 : Fin (k0_t39_loop v228 v257).trips) : Fin 5 → Nat :=
  let c0_480 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v383 : Index := Scalar.indexCast v226
  let c9 : Index := 9#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v384 : Index := Scalar.indexCast v327
  let c0_481 : Index := 0#32
  ![0, v383.toNat, 9, v384.toNat, 0]
def k0_off958 (v1 : BitVec 32) (k0_t34 : Fin (k0_t34_loop v1).trips) (v228 : BitVec 32) (v257 : BitVec 32) (k0_t39 : Fin (k0_t39_loop v228 v257).trips) : Fin 5 → Nat :=
  let c0_483 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v389 : Index := Scalar.indexCast v226
  let c10 : Index := 10#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v390 : Index := Scalar.indexCast v327
  let c0_484 : Index := 0#32
  ![0, v389.toNat, 10, v390.toNat, 0]
def k0_off959 (v1 : BitVec 32) (k0_t34 : Fin (k0_t34_loop v1).trips) (v228 : BitVec 32) (v257 : BitVec 32) (k0_t39 : Fin (k0_t39_loop v228 v257).trips) : Fin 5 → Nat :=
  let c0_486 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v395 : Index := Scalar.indexCast v226
  let c11 : Index := 11#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v396 : Index := Scalar.indexCast v327
  let c0_487 : Index := 0#32
  ![0, v395.toNat, 11, v396.toNat, 0]
def k0_off960 (v1 : BitVec 32) (k0_t34 : Fin (k0_t34_loop v1).trips) (v228 : BitVec 32) (v257 : BitVec 32) (k0_t39 : Fin (k0_t39_loop v228 v257).trips) : Fin 5 → Nat :=
  let c0_489 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v401 : Index := Scalar.indexCast v226
  let c12 : Index := 12#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v402 : Index := Scalar.indexCast v327
  let c0_490 : Index := 0#32
  ![0, v401.toNat, 12, v402.toNat, 0]
def k0_off961 (v1 : BitVec 32) (k0_t34 : Fin (k0_t34_loop v1).trips) (v228 : BitVec 32) (v257 : BitVec 32) (k0_t39 : Fin (k0_t39_loop v228 v257).trips) : Fin 5 → Nat :=
  let c0_492 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v407 : Index := Scalar.indexCast v226
  let c13 : Index := 13#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v408 : Index := Scalar.indexCast v327
  let c0_493 : Index := 0#32
  ![0, v407.toNat, 13, v408.toNat, 0]
def k0_off962 (v1 : BitVec 32) (k0_t34 : Fin (k0_t34_loop v1).trips) (v228 : BitVec 32) (v257 : BitVec 32) (k0_t39 : Fin (k0_t39_loop v228 v257).trips) : Fin 5 → Nat :=
  let c0_495 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v413 : Index := Scalar.indexCast v226
  let c14 : Index := 14#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v414 : Index := Scalar.indexCast v327
  let c0_496 : Index := 0#32
  ![0, v413.toNat, 14, v414.toNat, 0]
def k0_off963 (v1 : BitVec 32) (k0_t34 : Fin (k0_t34_loop v1).trips) (v228 : BitVec 32) (v257 : BitVec 32) (k0_t39 : Fin (k0_t39_loop v228 v257).trips) : Fin 5 → Nat :=
  let c0_498 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v419 : Index := Scalar.indexCast v226
  let c15 : Index := 15#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v420 : Index := Scalar.indexCast v327
  let c0_499 : Index := 0#32
  ![0, v419.toNat, 15, v420.toNat, 0]
def k0_off964 (v1 : BitVec 32) (k0_t34 : Fin (k0_t34_loop v1).trips) (v228 : BitVec 32) (v257 : BitVec 32) (k0_t39 : Fin (k0_t39_loop v228 v257).trips) : Fin 5 → Nat :=
  let c0_501 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v425 : Index := Scalar.indexCast v226
  let c16 : Index := 16#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v426 : Index := Scalar.indexCast v327
  let c0_502 : Index := 0#32
  ![0, v425.toNat, 16, v426.toNat, 0]
def k0_off965 (v1 : BitVec 32) (k0_t34 : Fin (k0_t34_loop v1).trips) (v228 : BitVec 32) (v257 : BitVec 32) (k0_t39 : Fin (k0_t39_loop v228 v257).trips) : Fin 5 → Nat :=
  let c0_504 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v431 : Index := Scalar.indexCast v226
  let c17 : Index := 17#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v432 : Index := Scalar.indexCast v327
  let c0_505 : Index := 0#32
  ![0, v431.toNat, 17, v432.toNat, 0]
def k0_off966 (v1 : BitVec 32) (k0_t34 : Fin (k0_t34_loop v1).trips) (v228 : BitVec 32) (v257 : BitVec 32) (k0_t39 : Fin (k0_t39_loop v228 v257).trips) : Fin 5 → Nat :=
  let c0_507 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v437 : Index := Scalar.indexCast v226
  let c18 : Index := 18#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v438 : Index := Scalar.indexCast v327
  let c0_508 : Index := 0#32
  ![0, v437.toNat, 18, v438.toNat, 0]
def k0_off967 (v1 : BitVec 32) (k0_t34 : Fin (k0_t34_loop v1).trips) (v228 : BitVec 32) (v257 : BitVec 32) (k0_t39 : Fin (k0_t39_loop v228 v257).trips) : Fin 5 → Nat :=
  let c0_510 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v443 : Index := Scalar.indexCast v226
  let c19 : Index := 19#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v444 : Index := Scalar.indexCast v327
  let c0_511 : Index := 0#32
  ![0, v443.toNat, 19, v444.toNat, 0]
def k0_off968 (v1 : BitVec 32) (k0_t34 : Fin (k0_t34_loop v1).trips) (v228 : BitVec 32) (v257 : BitVec 32) (k0_t39 : Fin (k0_t39_loop v228 v257).trips) : Fin 5 → Nat :=
  let c0_513 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v449 : Index := Scalar.indexCast v226
  let c20 : Index := 20#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v450 : Index := Scalar.indexCast v327
  let c0_514 : Index := 0#32
  ![0, v449.toNat, 20, v450.toNat, 0]
def k0_off969 (v1 : BitVec 32) (k0_t34 : Fin (k0_t34_loop v1).trips) (v228 : BitVec 32) (v257 : BitVec 32) (k0_t39 : Fin (k0_t39_loop v228 v257).trips) : Fin 5 → Nat :=
  let c0_516 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v455 : Index := Scalar.indexCast v226
  let c21 : Index := 21#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v456 : Index := Scalar.indexCast v327
  let c0_517 : Index := 0#32
  ![0, v455.toNat, 21, v456.toNat, 0]
def k0_off970 (v1 : BitVec 32) (k0_t34 : Fin (k0_t34_loop v1).trips) (v228 : BitVec 32) (v257 : BitVec 32) (k0_t39 : Fin (k0_t39_loop v228 v257).trips) : Fin 5 → Nat :=
  let c0_519 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v461 : Index := Scalar.indexCast v226
  let c22 : Index := 22#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v462 : Index := Scalar.indexCast v327
  let c0_520 : Index := 0#32
  ![0, v461.toNat, 22, v462.toNat, 0]
def k0_off971 (v1 : BitVec 32) (k0_t34 : Fin (k0_t34_loop v1).trips) (v228 : BitVec 32) (v257 : BitVec 32) (k0_t39 : Fin (k0_t39_loop v228 v257).trips) : Fin 5 → Nat :=
  let c0_522 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v467 : Index := Scalar.indexCast v226
  let c23 : Index := 23#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v468 : Index := Scalar.indexCast v327
  let c0_523 : Index := 0#32
  ![0, v467.toNat, 23, v468.toNat, 0]
def k0_off972 (v1 : BitVec 32) (k0_t34 : Fin (k0_t34_loop v1).trips) (v228 : BitVec 32) (v257 : BitVec 32) (k0_t39 : Fin (k0_t39_loop v228 v257).trips) : Fin 5 → Nat :=
  let c0_525 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v473 : Index := Scalar.indexCast v226
  let c24 : Index := 24#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v474 : Index := Scalar.indexCast v327
  let c0_526 : Index := 0#32
  ![0, v473.toNat, 24, v474.toNat, 0]
def k0_off973 (v1 : BitVec 32) (k0_t34 : Fin (k0_t34_loop v1).trips) (v228 : BitVec 32) (v257 : BitVec 32) (k0_t39 : Fin (k0_t39_loop v228 v257).trips) : Fin 5 → Nat :=
  let c0_528 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v479 : Index := Scalar.indexCast v226
  let c25 : Index := 25#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v480 : Index := Scalar.indexCast v327
  let c0_529 : Index := 0#32
  ![0, v479.toNat, 25, v480.toNat, 0]
def k0_off974 (v1 : BitVec 32) (k0_t34 : Fin (k0_t34_loop v1).trips) (v228 : BitVec 32) (v257 : BitVec 32) (k0_t39 : Fin (k0_t39_loop v228 v257).trips) : Fin 5 → Nat :=
  let c0_531 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v485 : Index := Scalar.indexCast v226
  let c26 : Index := 26#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v486 : Index := Scalar.indexCast v327
  let c0_532 : Index := 0#32
  ![0, v485.toNat, 26, v486.toNat, 0]
def k0_off975 (v1 : BitVec 32) (k0_t34 : Fin (k0_t34_loop v1).trips) (v228 : BitVec 32) (v257 : BitVec 32) (k0_t39 : Fin (k0_t39_loop v228 v257).trips) : Fin 5 → Nat :=
  let c0_534 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v491 : Index := Scalar.indexCast v226
  let c27 : Index := 27#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v492 : Index := Scalar.indexCast v327
  let c0_535 : Index := 0#32
  ![0, v491.toNat, 27, v492.toNat, 0]
def k0_off976 (v1 : BitVec 32) (k0_t34 : Fin (k0_t34_loop v1).trips) (v228 : BitVec 32) (v257 : BitVec 32) (k0_t39 : Fin (k0_t39_loop v228 v257).trips) : Fin 5 → Nat :=
  let c0_537 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v497 : Index := Scalar.indexCast v226
  let c28 : Index := 28#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v498 : Index := Scalar.indexCast v327
  let c0_538 : Index := 0#32
  ![0, v497.toNat, 28, v498.toNat, 0]
def k0_off977 (v1 : BitVec 32) (k0_t34 : Fin (k0_t34_loop v1).trips) (v228 : BitVec 32) (v257 : BitVec 32) (k0_t39 : Fin (k0_t39_loop v228 v257).trips) : Fin 5 → Nat :=
  let c0_540 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v503 : Index := Scalar.indexCast v226
  let c29 : Index := 29#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v504 : Index := Scalar.indexCast v327
  let c0_541 : Index := 0#32
  ![0, v503.toNat, 29, v504.toNat, 0]
def k0_off978 (v1 : BitVec 32) (k0_t34 : Fin (k0_t34_loop v1).trips) (v228 : BitVec 32) (v257 : BitVec 32) (k0_t39 : Fin (k0_t39_loop v228 v257).trips) : Fin 5 → Nat :=
  let c0_543 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v509 : Index := Scalar.indexCast v226
  let c30 : Index := 30#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v510 : Index := Scalar.indexCast v327
  let c0_544 : Index := 0#32
  ![0, v509.toNat, 30, v510.toNat, 0]
def k0_off979 (v1 : BitVec 32) (k0_t34 : Fin (k0_t34_loop v1).trips) (v228 : BitVec 32) (v257 : BitVec 32) (k0_t39 : Fin (k0_t39_loop v228 v257).trips) : Fin 5 → Nat :=
  let c0_546 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v515 : Index := Scalar.indexCast v226
  let c31 : Index := 31#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v516 : Index := Scalar.indexCast v327
  let c0_547 : Index := 0#32
  ![0, v515.toNat, 31, v516.toNat, 0]
def k0_off980 (v1 : BitVec 32) (k0_t34 : Fin (k0_t34_loop v1).trips) (v228 : BitVec 32) (v257 : BitVec 32) (k0_t39 : Fin (k0_t39_loop v228 v257).trips) : Fin 5 → Nat :=
  let c0_549 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v521 : Index := Scalar.indexCast v226
  let c32 : Index := 32#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v522 : Index := Scalar.indexCast v327
  let c0_550 : Index := 0#32
  ![0, v521.toNat, 32, v522.toNat, 0]
def k0_off981 (v1 : BitVec 32) (k0_t34 : Fin (k0_t34_loop v1).trips) (v228 : BitVec 32) (v257 : BitVec 32) (k0_t39 : Fin (k0_t39_loop v228 v257).trips) : Fin 5 → Nat :=
  let c0_552 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v527 : Index := Scalar.indexCast v226
  let c33 : Index := 33#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v528 : Index := Scalar.indexCast v327
  let c0_553 : Index := 0#32
  ![0, v527.toNat, 33, v528.toNat, 0]
def k0_off982 (v1 : BitVec 32) (k0_t34 : Fin (k0_t34_loop v1).trips) (v228 : BitVec 32) (v257 : BitVec 32) (k0_t39 : Fin (k0_t39_loop v228 v257).trips) : Fin 5 → Nat :=
  let c0_555 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v533 : Index := Scalar.indexCast v226
  let c34 : Index := 34#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v534 : Index := Scalar.indexCast v327
  let c0_556 : Index := 0#32
  ![0, v533.toNat, 34, v534.toNat, 0]
def k0_off983 (v1 : BitVec 32) (k0_t34 : Fin (k0_t34_loop v1).trips) (v228 : BitVec 32) (v257 : BitVec 32) (k0_t39 : Fin (k0_t39_loop v228 v257).trips) : Fin 5 → Nat :=
  let c0_558 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v539 : Index := Scalar.indexCast v226
  let c35 : Index := 35#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v540 : Index := Scalar.indexCast v327
  let c0_559 : Index := 0#32
  ![0, v539.toNat, 35, v540.toNat, 0]
def k0_off984 (v1 : BitVec 32) (k0_t34 : Fin (k0_t34_loop v1).trips) (v228 : BitVec 32) (v257 : BitVec 32) (k0_t39 : Fin (k0_t39_loop v228 v257).trips) : Fin 5 → Nat :=
  let c0_561 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v545 : Index := Scalar.indexCast v226
  let c36 : Index := 36#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v546 : Index := Scalar.indexCast v327
  let c0_562 : Index := 0#32
  ![0, v545.toNat, 36, v546.toNat, 0]
def k0_off985 (v1 : BitVec 32) (k0_t34 : Fin (k0_t34_loop v1).trips) (v228 : BitVec 32) (v257 : BitVec 32) (k0_t39 : Fin (k0_t39_loop v228 v257).trips) : Fin 5 → Nat :=
  let c0_564 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v551 : Index := Scalar.indexCast v226
  let c37 : Index := 37#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v552 : Index := Scalar.indexCast v327
  let c0_565 : Index := 0#32
  ![0, v551.toNat, 37, v552.toNat, 0]
def k0_off986 (v1 : BitVec 32) (k0_t34 : Fin (k0_t34_loop v1).trips) (v228 : BitVec 32) (v257 : BitVec 32) (k0_t39 : Fin (k0_t39_loop v228 v257).trips) : Fin 5 → Nat :=
  let c0_567 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v557 : Index := Scalar.indexCast v226
  let c38 : Index := 38#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v558 : Index := Scalar.indexCast v327
  let c0_568 : Index := 0#32
  ![0, v557.toNat, 38, v558.toNat, 0]
def k0_off987 (v1 : BitVec 32) (k0_t34 : Fin (k0_t34_loop v1).trips) (v228 : BitVec 32) (v257 : BitVec 32) (k0_t39 : Fin (k0_t39_loop v228 v257).trips) : Fin 5 → Nat :=
  let c0_570 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v563 : Index := Scalar.indexCast v226
  let c39 : Index := 39#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v564 : Index := Scalar.indexCast v327
  let c0_571 : Index := 0#32
  ![0, v563.toNat, 39, v564.toNat, 0]
def k0_off988 (v1 : BitVec 32) (k0_t34 : Fin (k0_t34_loop v1).trips) (v228 : BitVec 32) (v257 : BitVec 32) (k0_t39 : Fin (k0_t39_loop v228 v257).trips) : Fin 5 → Nat :=
  let c0_573 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v569 : Index := Scalar.indexCast v226
  let c40 : Index := 40#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v570 : Index := Scalar.indexCast v327
  let c0_574 : Index := 0#32
  ![0, v569.toNat, 40, v570.toNat, 0]
def k0_off989 (v1 : BitVec 32) (k0_t34 : Fin (k0_t34_loop v1).trips) (v228 : BitVec 32) (v257 : BitVec 32) (k0_t39 : Fin (k0_t39_loop v228 v257).trips) : Fin 5 → Nat :=
  let c0_576 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v575 : Index := Scalar.indexCast v226
  let c41 : Index := 41#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v576 : Index := Scalar.indexCast v327
  let c0_577 : Index := 0#32
  ![0, v575.toNat, 41, v576.toNat, 0]
def k0_off990 (v1 : BitVec 32) (k0_t34 : Fin (k0_t34_loop v1).trips) (v228 : BitVec 32) (v257 : BitVec 32) (k0_t39 : Fin (k0_t39_loop v228 v257).trips) : Fin 5 → Nat :=
  let c0_579 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v581 : Index := Scalar.indexCast v226
  let c42 : Index := 42#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v582 : Index := Scalar.indexCast v327
  let c0_580 : Index := 0#32
  ![0, v581.toNat, 42, v582.toNat, 0]
def k0_off991 (v1 : BitVec 32) (k0_t34 : Fin (k0_t34_loop v1).trips) (v228 : BitVec 32) (v257 : BitVec 32) (k0_t39 : Fin (k0_t39_loop v228 v257).trips) : Fin 5 → Nat :=
  let c0_582 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v587 : Index := Scalar.indexCast v226
  let c43 : Index := 43#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v588 : Index := Scalar.indexCast v327
  let c0_583 : Index := 0#32
  ![0, v587.toNat, 43, v588.toNat, 0]
def k0_off992 (v1 : BitVec 32) (k0_t34 : Fin (k0_t34_loop v1).trips) (v228 : BitVec 32) (v257 : BitVec 32) (k0_t39 : Fin (k0_t39_loop v228 v257).trips) : Fin 5 → Nat :=
  let c0_585 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v593 : Index := Scalar.indexCast v226
  let c44 : Index := 44#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v594 : Index := Scalar.indexCast v327
  let c0_586 : Index := 0#32
  ![0, v593.toNat, 44, v594.toNat, 0]
def k0_off993 (v1 : BitVec 32) (k0_t34 : Fin (k0_t34_loop v1).trips) (v228 : BitVec 32) (v257 : BitVec 32) (k0_t39 : Fin (k0_t39_loop v228 v257).trips) : Fin 5 → Nat :=
  let c0_588 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v599 : Index := Scalar.indexCast v226
  let c45 : Index := 45#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v600 : Index := Scalar.indexCast v327
  let c0_589 : Index := 0#32
  ![0, v599.toNat, 45, v600.toNat, 0]
def k0_off994 (v1 : BitVec 32) (k0_t34 : Fin (k0_t34_loop v1).trips) (v228 : BitVec 32) (v257 : BitVec 32) (k0_t39 : Fin (k0_t39_loop v228 v257).trips) : Fin 5 → Nat :=
  let c0_591 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v605 : Index := Scalar.indexCast v226
  let c46 : Index := 46#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v606 : Index := Scalar.indexCast v327
  let c0_592 : Index := 0#32
  ![0, v605.toNat, 46, v606.toNat, 0]
def k0_off995 (v1 : BitVec 32) (k0_t34 : Fin (k0_t34_loop v1).trips) (v228 : BitVec 32) (v257 : BitVec 32) (k0_t39 : Fin (k0_t39_loop v228 v257).trips) : Fin 5 → Nat :=
  let c0_594 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v611 : Index := Scalar.indexCast v226
  let c47 : Index := 47#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v612 : Index := Scalar.indexCast v327
  let c0_595 : Index := 0#32
  ![0, v611.toNat, 47, v612.toNat, 0]
def k0_off996 (v1 : BitVec 32) (k0_t34 : Fin (k0_t34_loop v1).trips) (v228 : BitVec 32) (v257 : BitVec 32) (k0_t39 : Fin (k0_t39_loop v228 v257).trips) : Fin 5 → Nat :=
  let c0_597 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v617 : Index := Scalar.indexCast v226
  let c48 : Index := 48#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v618 : Index := Scalar.indexCast v327
  let c0_598 : Index := 0#32
  ![0, v617.toNat, 48, v618.toNat, 0]
def k0_off997 (v1 : BitVec 32) (k0_t34 : Fin (k0_t34_loop v1).trips) (v228 : BitVec 32) (v257 : BitVec 32) (k0_t39 : Fin (k0_t39_loop v228 v257).trips) : Fin 5 → Nat :=
  let c0_600 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v623 : Index := Scalar.indexCast v226
  let c49 : Index := 49#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v624 : Index := Scalar.indexCast v327
  let c0_601 : Index := 0#32
  ![0, v623.toNat, 49, v624.toNat, 0]
def k0_off998 (v1 : BitVec 32) (k0_t34 : Fin (k0_t34_loop v1).trips) (v228 : BitVec 32) (v257 : BitVec 32) (k0_t39 : Fin (k0_t39_loop v228 v257).trips) : Fin 5 → Nat :=
  let c0_603 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v629 : Index := Scalar.indexCast v226
  let c50 : Index := 50#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v630 : Index := Scalar.indexCast v327
  let c0_604 : Index := 0#32
  ![0, v629.toNat, 50, v630.toNat, 0]
def k0_off999 (v1 : BitVec 32) (k0_t34 : Fin (k0_t34_loop v1).trips) (v228 : BitVec 32) (v257 : BitVec 32) (k0_t39 : Fin (k0_t39_loop v228 v257).trips) : Fin 5 → Nat :=
  let c0_606 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v635 : Index := Scalar.indexCast v226
  let c51 : Index := 51#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v636 : Index := Scalar.indexCast v327
  let c0_607 : Index := 0#32
  ![0, v635.toNat, 51, v636.toNat, 0]
def k0_off1000 (v1 : BitVec 32) (k0_t34 : Fin (k0_t34_loop v1).trips) (v228 : BitVec 32) (v257 : BitVec 32) (k0_t39 : Fin (k0_t39_loop v228 v257).trips) : Fin 5 → Nat :=
  let c0_609 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v641 : Index := Scalar.indexCast v226
  let c52 : Index := 52#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v642 : Index := Scalar.indexCast v327
  let c0_610 : Index := 0#32
  ![0, v641.toNat, 52, v642.toNat, 0]
def k0_off1001 (v1 : BitVec 32) (k0_t34 : Fin (k0_t34_loop v1).trips) (v228 : BitVec 32) (v257 : BitVec 32) (k0_t39 : Fin (k0_t39_loop v228 v257).trips) : Fin 5 → Nat :=
  let c0_612 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v647 : Index := Scalar.indexCast v226
  let c53 : Index := 53#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v648 : Index := Scalar.indexCast v327
  let c0_613 : Index := 0#32
  ![0, v647.toNat, 53, v648.toNat, 0]
def k0_off1002 (v1 : BitVec 32) (k0_t34 : Fin (k0_t34_loop v1).trips) (v228 : BitVec 32) (v257 : BitVec 32) (k0_t39 : Fin (k0_t39_loop v228 v257).trips) : Fin 5 → Nat :=
  let c0_615 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v653 : Index := Scalar.indexCast v226
  let c54 : Index := 54#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v654 : Index := Scalar.indexCast v327
  let c0_616 : Index := 0#32
  ![0, v653.toNat, 54, v654.toNat, 0]
def k0_off1003 (v1 : BitVec 32) (k0_t34 : Fin (k0_t34_loop v1).trips) (v228 : BitVec 32) (v257 : BitVec 32) (k0_t39 : Fin (k0_t39_loop v228 v257).trips) : Fin 5 → Nat :=
  let c0_618 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v659 : Index := Scalar.indexCast v226
  let c55 : Index := 55#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v660 : Index := Scalar.indexCast v327
  let c0_619 : Index := 0#32
  ![0, v659.toNat, 55, v660.toNat, 0]
def k0_off1004 (v1 : BitVec 32) (k0_t34 : Fin (k0_t34_loop v1).trips) (v228 : BitVec 32) (v257 : BitVec 32) (k0_t39 : Fin (k0_t39_loop v228 v257).trips) : Fin 5 → Nat :=
  let c0_621 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v665 : Index := Scalar.indexCast v226
  let c56 : Index := 56#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v666 : Index := Scalar.indexCast v327
  let c0_622 : Index := 0#32
  ![0, v665.toNat, 56, v666.toNat, 0]
def k0_off1005 (v1 : BitVec 32) (k0_t34 : Fin (k0_t34_loop v1).trips) (v228 : BitVec 32) (v257 : BitVec 32) (k0_t39 : Fin (k0_t39_loop v228 v257).trips) : Fin 5 → Nat :=
  let c0_624 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v671 : Index := Scalar.indexCast v226
  let c57 : Index := 57#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v672 : Index := Scalar.indexCast v327
  let c0_625 : Index := 0#32
  ![0, v671.toNat, 57, v672.toNat, 0]
def k0_off1006 (v1 : BitVec 32) (k0_t34 : Fin (k0_t34_loop v1).trips) (v228 : BitVec 32) (v257 : BitVec 32) (k0_t39 : Fin (k0_t39_loop v228 v257).trips) : Fin 5 → Nat :=
  let c0_627 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v677 : Index := Scalar.indexCast v226
  let c58 : Index := 58#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v678 : Index := Scalar.indexCast v327
  let c0_628 : Index := 0#32
  ![0, v677.toNat, 58, v678.toNat, 0]
def k0_off1007 (v1 : BitVec 32) (k0_t34 : Fin (k0_t34_loop v1).trips) (v228 : BitVec 32) (v257 : BitVec 32) (k0_t39 : Fin (k0_t39_loop v228 v257).trips) : Fin 5 → Nat :=
  let c0_630 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v683 : Index := Scalar.indexCast v226
  let c59 : Index := 59#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v684 : Index := Scalar.indexCast v327
  let c0_631 : Index := 0#32
  ![0, v683.toNat, 59, v684.toNat, 0]
def k0_off1008 (v1 : BitVec 32) (k0_t34 : Fin (k0_t34_loop v1).trips) (v228 : BitVec 32) (v257 : BitVec 32) (k0_t39 : Fin (k0_t39_loop v228 v257).trips) : Fin 5 → Nat :=
  let c0_633 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v689 : Index := Scalar.indexCast v226
  let c60 : Index := 60#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v690 : Index := Scalar.indexCast v327
  let c0_634 : Index := 0#32
  ![0, v689.toNat, 60, v690.toNat, 0]
def k0_off1009 (v1 : BitVec 32) (k0_t34 : Fin (k0_t34_loop v1).trips) (v228 : BitVec 32) (v257 : BitVec 32) (k0_t39 : Fin (k0_t39_loop v228 v257).trips) : Fin 5 → Nat :=
  let c0_636 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v695 : Index := Scalar.indexCast v226
  let c61 : Index := 61#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v696 : Index := Scalar.indexCast v327
  let c0_637 : Index := 0#32
  ![0, v695.toNat, 61, v696.toNat, 0]
def k0_off1010 (v1 : BitVec 32) (k0_t34 : Fin (k0_t34_loop v1).trips) (v228 : BitVec 32) (v257 : BitVec 32) (k0_t39 : Fin (k0_t39_loop v228 v257).trips) : Fin 5 → Nat :=
  let c0_639 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v701 : Index := Scalar.indexCast v226
  let c62 : Index := 62#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v702 : Index := Scalar.indexCast v327
  let c0_640 : Index := 0#32
  ![0, v701.toNat, 62, v702.toNat, 0]
def k0_off1011 (v1 : BitVec 32) (k0_t34 : Fin (k0_t34_loop v1).trips) (v228 : BitVec 32) (v257 : BitVec 32) (k0_t39 : Fin (k0_t39_loop v228 v257).trips) : Fin 5 → Nat :=
  let c0_642 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v707 : Index := Scalar.indexCast v226
  let c63 : Index := 63#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v708 : Index := Scalar.indexCast v327
  let c0_643 : Index := 0#32
  ![0, v707.toNat, 63, v708.toNat, 0]
def k0_off1012 (v1 : BitVec 32) (k0_t34 : Fin (k0_t34_loop v1).trips) (v228 : BitVec 32) (v257 : BitVec 32) (k0_t39 : Fin (k0_t39_loop v228 v257).trips) : Fin 5 → Nat :=
  let c0_645 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v713 : Index := Scalar.indexCast v226
  let c64 : Index := 64#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v714 : Index := Scalar.indexCast v327
  let c0_646 : Index := 0#32
  ![0, v713.toNat, 64, v714.toNat, 0]
def k0_off1013 (v1 : BitVec 32) (k0_t34 : Fin (k0_t34_loop v1).trips) (v228 : BitVec 32) (v257 : BitVec 32) (k0_t39 : Fin (k0_t39_loop v228 v257).trips) : Fin 5 → Nat :=
  let c0_648 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v719 : Index := Scalar.indexCast v226
  let c65 : Index := 65#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v720 : Index := Scalar.indexCast v327
  let c0_649 : Index := 0#32
  ![0, v719.toNat, 65, v720.toNat, 0]
def k0_off1014 (v1 : BitVec 32) (k0_t34 : Fin (k0_t34_loop v1).trips) (v228 : BitVec 32) (v257 : BitVec 32) (k0_t39 : Fin (k0_t39_loop v228 v257).trips) : Fin 5 → Nat :=
  let c0_651 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v725 : Index := Scalar.indexCast v226
  let c66 : Index := 66#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v726 : Index := Scalar.indexCast v327
  let c0_652 : Index := 0#32
  ![0, v725.toNat, 66, v726.toNat, 0]
def k0_off1015 (v1 : BitVec 32) (k0_t34 : Fin (k0_t34_loop v1).trips) (v228 : BitVec 32) (v257 : BitVec 32) (k0_t39 : Fin (k0_t39_loop v228 v257).trips) : Fin 5 → Nat :=
  let c0_654 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v731 : Index := Scalar.indexCast v226
  let c67 : Index := 67#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v732 : Index := Scalar.indexCast v327
  let c0_655 : Index := 0#32
  ![0, v731.toNat, 67, v732.toNat, 0]
def k0_off1016 (v1 : BitVec 32) (k0_t34 : Fin (k0_t34_loop v1).trips) (v228 : BitVec 32) (v257 : BitVec 32) (k0_t39 : Fin (k0_t39_loop v228 v257).trips) : Fin 5 → Nat :=
  let c0_657 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v737 : Index := Scalar.indexCast v226
  let c68 : Index := 68#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v738 : Index := Scalar.indexCast v327
  let c0_658 : Index := 0#32
  ![0, v737.toNat, 68, v738.toNat, 0]
def k0_off1017 (v1 : BitVec 32) (k0_t34 : Fin (k0_t34_loop v1).trips) (v228 : BitVec 32) (v257 : BitVec 32) (k0_t39 : Fin (k0_t39_loop v228 v257).trips) : Fin 5 → Nat :=
  let c0_660 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v743 : Index := Scalar.indexCast v226
  let c69 : Index := 69#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v744 : Index := Scalar.indexCast v327
  let c0_661 : Index := 0#32
  ![0, v743.toNat, 69, v744.toNat, 0]
def k0_off1018 (v1 : BitVec 32) (k0_t34 : Fin (k0_t34_loop v1).trips) (v228 : BitVec 32) (v257 : BitVec 32) (k0_t39 : Fin (k0_t39_loop v228 v257).trips) : Fin 5 → Nat :=
  let c0_663 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v749 : Index := Scalar.indexCast v226
  let c70 : Index := 70#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v750 : Index := Scalar.indexCast v327
  let c0_664 : Index := 0#32
  ![0, v749.toNat, 70, v750.toNat, 0]
def k0_off1019 (v1 : BitVec 32) (k0_t34 : Fin (k0_t34_loop v1).trips) (v228 : BitVec 32) (v257 : BitVec 32) (k0_t39 : Fin (k0_t39_loop v228 v257).trips) : Fin 5 → Nat :=
  let c0_666 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v755 : Index := Scalar.indexCast v226
  let c71 : Index := 71#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v756 : Index := Scalar.indexCast v327
  let c0_667 : Index := 0#32
  ![0, v755.toNat, 71, v756.toNat, 0]
def k0_off1020 (v1 : BitVec 32) (k0_t34 : Fin (k0_t34_loop v1).trips) (v228 : BitVec 32) (v257 : BitVec 32) (k0_t39 : Fin (k0_t39_loop v228 v257).trips) : Fin 5 → Nat :=
  let c0_669 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v761 : Index := Scalar.indexCast v226
  let c72 : Index := 72#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v762 : Index := Scalar.indexCast v327
  let c0_670 : Index := 0#32
  ![0, v761.toNat, 72, v762.toNat, 0]
def k0_off1021 (v1 : BitVec 32) (k0_t34 : Fin (k0_t34_loop v1).trips) (v228 : BitVec 32) (v257 : BitVec 32) (k0_t39 : Fin (k0_t39_loop v228 v257).trips) : Fin 5 → Nat :=
  let c0_672 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v767 : Index := Scalar.indexCast v226
  let c73 : Index := 73#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v768 : Index := Scalar.indexCast v327
  let c0_673 : Index := 0#32
  ![0, v767.toNat, 73, v768.toNat, 0]
def k0_off1022 (v1 : BitVec 32) (k0_t34 : Fin (k0_t34_loop v1).trips) (v228 : BitVec 32) (v257 : BitVec 32) (k0_t39 : Fin (k0_t39_loop v228 v257).trips) : Fin 5 → Nat :=
  let c0_675 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v773 : Index := Scalar.indexCast v226
  let c74 : Index := 74#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v774 : Index := Scalar.indexCast v327
  let c0_676 : Index := 0#32
  ![0, v773.toNat, 74, v774.toNat, 0]
def k0_off1023 (v1 : BitVec 32) (k0_t34 : Fin (k0_t34_loop v1).trips) (v228 : BitVec 32) (v257 : BitVec 32) (k0_t39 : Fin (k0_t39_loop v228 v257).trips) : Fin 5 → Nat :=
  let c0_678 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v779 : Index := Scalar.indexCast v226
  let c75 : Index := 75#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v780 : Index := Scalar.indexCast v327
  let c0_679 : Index := 0#32
  ![0, v779.toNat, 75, v780.toNat, 0]
def k0_off1024 (v1 : BitVec 32) (k0_t34 : Fin (k0_t34_loop v1).trips) (v228 : BitVec 32) (v257 : BitVec 32) (k0_t39 : Fin (k0_t39_loop v228 v257).trips) : Fin 5 → Nat :=
  let c0_681 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v785 : Index := Scalar.indexCast v226
  let c76 : Index := 76#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v786 : Index := Scalar.indexCast v327
  let c0_682 : Index := 0#32
  ![0, v785.toNat, 76, v786.toNat, 0]
def k0_off1025 (v1 : BitVec 32) (k0_t34 : Fin (k0_t34_loop v1).trips) (v228 : BitVec 32) (v257 : BitVec 32) (k0_t39 : Fin (k0_t39_loop v228 v257).trips) : Fin 5 → Nat :=
  let c0_684 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v791 : Index := Scalar.indexCast v226
  let c77 : Index := 77#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v792 : Index := Scalar.indexCast v327
  let c0_685 : Index := 0#32
  ![0, v791.toNat, 77, v792.toNat, 0]
def k0_off1026 (v1 : BitVec 32) (k0_t34 : Fin (k0_t34_loop v1).trips) (v228 : BitVec 32) (v257 : BitVec 32) (k0_t39 : Fin (k0_t39_loop v228 v257).trips) : Fin 5 → Nat :=
  let c0_687 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v797 : Index := Scalar.indexCast v226
  let c78 : Index := 78#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v798 : Index := Scalar.indexCast v327
  let c0_688 : Index := 0#32
  ![0, v797.toNat, 78, v798.toNat, 0]
def k0_off1027 (v1 : BitVec 32) (k0_t34 : Fin (k0_t34_loop v1).trips) (v228 : BitVec 32) (v257 : BitVec 32) (k0_t39 : Fin (k0_t39_loop v228 v257).trips) : Fin 5 → Nat :=
  let c0_690 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v803 : Index := Scalar.indexCast v226
  let c79 : Index := 79#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v804 : Index := Scalar.indexCast v327
  let c0_691 : Index := 0#32
  ![0, v803.toNat, 79, v804.toNat, 0]
def k0_off1028 (v1 : BitVec 32) (k0_t34 : Fin (k0_t34_loop v1).trips) (v228 : BitVec 32) (v257 : BitVec 32) (k0_t39 : Fin (k0_t39_loop v228 v257).trips) : Fin 5 → Nat :=
  let c0_693 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v809 : Index := Scalar.indexCast v226
  let c80 : Index := 80#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v810 : Index := Scalar.indexCast v327
  let c0_694 : Index := 0#32
  ![0, v809.toNat, 80, v810.toNat, 0]
def k0_off1029 (v1 : BitVec 32) (k0_t34 : Fin (k0_t34_loop v1).trips) (v228 : BitVec 32) (v257 : BitVec 32) (k0_t39 : Fin (k0_t39_loop v228 v257).trips) : Fin 5 → Nat :=
  let c0_696 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v815 : Index := Scalar.indexCast v226
  let c81 : Index := 81#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v816 : Index := Scalar.indexCast v327
  let c0_697 : Index := 0#32
  ![0, v815.toNat, 81, v816.toNat, 0]
def k0_off1030 (v1 : BitVec 32) (k0_t34 : Fin (k0_t34_loop v1).trips) (v228 : BitVec 32) (v257 : BitVec 32) (k0_t39 : Fin (k0_t39_loop v228 v257).trips) : Fin 5 → Nat :=
  let c0_699 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v821 : Index := Scalar.indexCast v226
  let c82 : Index := 82#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v822 : Index := Scalar.indexCast v327
  let c0_700 : Index := 0#32
  ![0, v821.toNat, 82, v822.toNat, 0]
def k0_off1031 (v1 : BitVec 32) (k0_t34 : Fin (k0_t34_loop v1).trips) (v228 : BitVec 32) (v257 : BitVec 32) (k0_t39 : Fin (k0_t39_loop v228 v257).trips) : Fin 5 → Nat :=
  let c0_702 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v827 : Index := Scalar.indexCast v226
  let c83 : Index := 83#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v828 : Index := Scalar.indexCast v327
  let c0_703 : Index := 0#32
  ![0, v827.toNat, 83, v828.toNat, 0]
def k0_off1032 (v1 : BitVec 32) (k0_t34 : Fin (k0_t34_loop v1).trips) (v228 : BitVec 32) (v257 : BitVec 32) (k0_t39 : Fin (k0_t39_loop v228 v257).trips) : Fin 5 → Nat :=
  let c0_705 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v833 : Index := Scalar.indexCast v226
  let c84 : Index := 84#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v834 : Index := Scalar.indexCast v327
  let c0_706 : Index := 0#32
  ![0, v833.toNat, 84, v834.toNat, 0]
def k0_off1033 (v1 : BitVec 32) (k0_t34 : Fin (k0_t34_loop v1).trips) (v228 : BitVec 32) (v257 : BitVec 32) (k0_t39 : Fin (k0_t39_loop v228 v257).trips) : Fin 5 → Nat :=
  let c0_708 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v839 : Index := Scalar.indexCast v226
  let c85 : Index := 85#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v840 : Index := Scalar.indexCast v327
  let c0_709 : Index := 0#32
  ![0, v839.toNat, 85, v840.toNat, 0]
def k0_off1034 (v1 : BitVec 32) (k0_t34 : Fin (k0_t34_loop v1).trips) (v228 : BitVec 32) (v257 : BitVec 32) (k0_t39 : Fin (k0_t39_loop v228 v257).trips) : Fin 5 → Nat :=
  let c0_711 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v845 : Index := Scalar.indexCast v226
  let c86 : Index := 86#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v846 : Index := Scalar.indexCast v327
  let c0_712 : Index := 0#32
  ![0, v845.toNat, 86, v846.toNat, 0]
def k0_off1035 (v1 : BitVec 32) (k0_t34 : Fin (k0_t34_loop v1).trips) (v228 : BitVec 32) (v257 : BitVec 32) (k0_t39 : Fin (k0_t39_loop v228 v257).trips) : Fin 5 → Nat :=
  let c0_714 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v851 : Index := Scalar.indexCast v226
  let c87 : Index := 87#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v852 : Index := Scalar.indexCast v327
  let c0_715 : Index := 0#32
  ![0, v851.toNat, 87, v852.toNat, 0]
def k0_off1036 (v1 : BitVec 32) (k0_t34 : Fin (k0_t34_loop v1).trips) (v228 : BitVec 32) (v257 : BitVec 32) (k0_t39 : Fin (k0_t39_loop v228 v257).trips) : Fin 5 → Nat :=
  let c0_717 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v857 : Index := Scalar.indexCast v226
  let c88 : Index := 88#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v858 : Index := Scalar.indexCast v327
  let c0_718 : Index := 0#32
  ![0, v857.toNat, 88, v858.toNat, 0]
def k0_off1037 (v1 : BitVec 32) (k0_t34 : Fin (k0_t34_loop v1).trips) (v228 : BitVec 32) (v257 : BitVec 32) (k0_t39 : Fin (k0_t39_loop v228 v257).trips) : Fin 5 → Nat :=
  let c0_720 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v863 : Index := Scalar.indexCast v226
  let c89 : Index := 89#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v864 : Index := Scalar.indexCast v327
  let c0_721 : Index := 0#32
  ![0, v863.toNat, 89, v864.toNat, 0]
def k0_off1038 (v1 : BitVec 32) (k0_t34 : Fin (k0_t34_loop v1).trips) (v228 : BitVec 32) (v257 : BitVec 32) (k0_t39 : Fin (k0_t39_loop v228 v257).trips) : Fin 5 → Nat :=
  let c0_723 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v869 : Index := Scalar.indexCast v226
  let c90 : Index := 90#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v870 : Index := Scalar.indexCast v327
  let c0_724 : Index := 0#32
  ![0, v869.toNat, 90, v870.toNat, 0]
def k0_off1039 (v1 : BitVec 32) (k0_t34 : Fin (k0_t34_loop v1).trips) (v228 : BitVec 32) (v257 : BitVec 32) (k0_t39 : Fin (k0_t39_loop v228 v257).trips) : Fin 5 → Nat :=
  let c0_726 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v875 : Index := Scalar.indexCast v226
  let c91 : Index := 91#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v876 : Index := Scalar.indexCast v327
  let c0_727 : Index := 0#32
  ![0, v875.toNat, 91, v876.toNat, 0]
def k0_off1040 (v1 : BitVec 32) (k0_t34 : Fin (k0_t34_loop v1).trips) (v228 : BitVec 32) (v257 : BitVec 32) (k0_t39 : Fin (k0_t39_loop v228 v257).trips) : Fin 5 → Nat :=
  let c0_729 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v881 : Index := Scalar.indexCast v226
  let c92 : Index := 92#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v882 : Index := Scalar.indexCast v327
  let c0_730 : Index := 0#32
  ![0, v881.toNat, 92, v882.toNat, 0]
def k0_off1041 (v1 : BitVec 32) (k0_t34 : Fin (k0_t34_loop v1).trips) (v228 : BitVec 32) (v257 : BitVec 32) (k0_t39 : Fin (k0_t39_loop v228 v257).trips) : Fin 5 → Nat :=
  let c0_732 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v887 : Index := Scalar.indexCast v226
  let c93 : Index := 93#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v888 : Index := Scalar.indexCast v327
  let c0_733 : Index := 0#32
  ![0, v887.toNat, 93, v888.toNat, 0]
def k0_off1042 (v1 : BitVec 32) (k0_t34 : Fin (k0_t34_loop v1).trips) (v228 : BitVec 32) (v257 : BitVec 32) (k0_t39 : Fin (k0_t39_loop v228 v257).trips) : Fin 5 → Nat :=
  let c0_735 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v893 : Index := Scalar.indexCast v226
  let c94 : Index := 94#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v894 : Index := Scalar.indexCast v327
  let c0_736 : Index := 0#32
  ![0, v893.toNat, 94, v894.toNat, 0]
def k0_off1043 (v1 : BitVec 32) (k0_t34 : Fin (k0_t34_loop v1).trips) (v228 : BitVec 32) (v257 : BitVec 32) (k0_t39 : Fin (k0_t39_loop v228 v257).trips) : Fin 5 → Nat :=
  let c0_738 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v899 : Index := Scalar.indexCast v226
  let c95 : Index := 95#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v900 : Index := Scalar.indexCast v327
  let c0_739 : Index := 0#32
  ![0, v899.toNat, 95, v900.toNat, 0]
def k0_off1044 (v1 : BitVec 32) (k0_t34 : Fin (k0_t34_loop v1).trips) (v228 : BitVec 32) (v257 : BitVec 32) (k0_t39 : Fin (k0_t39_loop v228 v257).trips) : Fin 5 → Nat :=
  let c0_741 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v905 : Index := Scalar.indexCast v226
  let c96 : Index := 96#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v906 : Index := Scalar.indexCast v327
  let c0_742 : Index := 0#32
  ![0, v905.toNat, 96, v906.toNat, 0]
def k0_off1045 (v1 : BitVec 32) (k0_t34 : Fin (k0_t34_loop v1).trips) (v228 : BitVec 32) (v257 : BitVec 32) (k0_t39 : Fin (k0_t39_loop v228 v257).trips) : Fin 5 → Nat :=
  let c0_744 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v911 : Index := Scalar.indexCast v226
  let c97 : Index := 97#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v912 : Index := Scalar.indexCast v327
  let c0_745 : Index := 0#32
  ![0, v911.toNat, 97, v912.toNat, 0]
def k0_off1046 (v1 : BitVec 32) (k0_t34 : Fin (k0_t34_loop v1).trips) (v228 : BitVec 32) (v257 : BitVec 32) (k0_t39 : Fin (k0_t39_loop v228 v257).trips) : Fin 5 → Nat :=
  let c0_747 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v917 : Index := Scalar.indexCast v226
  let c98 : Index := 98#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v918 : Index := Scalar.indexCast v327
  let c0_748 : Index := 0#32
  ![0, v917.toNat, 98, v918.toNat, 0]
def k0_off1047 (v1 : BitVec 32) (k0_t34 : Fin (k0_t34_loop v1).trips) (v228 : BitVec 32) (v257 : BitVec 32) (k0_t39 : Fin (k0_t39_loop v228 v257).trips) : Fin 5 → Nat :=
  let c0_750 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v923 : Index := Scalar.indexCast v226
  let c99 : Index := 99#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v924 : Index := Scalar.indexCast v327
  let c0_751 : Index := 0#32
  ![0, v923.toNat, 99, v924.toNat, 0]
def k0_off1048 (v1 : BitVec 32) (k0_t34 : Fin (k0_t34_loop v1).trips) (v228 : BitVec 32) (v257 : BitVec 32) (k0_t39 : Fin (k0_t39_loop v228 v257).trips) : Fin 5 → Nat :=
  let c0_753 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v929 : Index := Scalar.indexCast v226
  let c100 : Index := 100#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v930 : Index := Scalar.indexCast v327
  let c0_754 : Index := 0#32
  ![0, v929.toNat, 100, v930.toNat, 0]
def k0_off1049 (v1 : BitVec 32) (k0_t34 : Fin (k0_t34_loop v1).trips) (v228 : BitVec 32) (v257 : BitVec 32) (k0_t39 : Fin (k0_t39_loop v228 v257).trips) : Fin 5 → Nat :=
  let c0_756 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v935 : Index := Scalar.indexCast v226
  let c101 : Index := 101#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v936 : Index := Scalar.indexCast v327
  let c0_757 : Index := 0#32
  ![0, v935.toNat, 101, v936.toNat, 0]
def k0_off1050 (v1 : BitVec 32) (k0_t34 : Fin (k0_t34_loop v1).trips) (v228 : BitVec 32) (v257 : BitVec 32) (k0_t39 : Fin (k0_t39_loop v228 v257).trips) : Fin 5 → Nat :=
  let c0_759 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v941 : Index := Scalar.indexCast v226
  let c102 : Index := 102#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v942 : Index := Scalar.indexCast v327
  let c0_760 : Index := 0#32
  ![0, v941.toNat, 102, v942.toNat, 0]
def k0_off1051 (v1 : BitVec 32) (k0_t34 : Fin (k0_t34_loop v1).trips) (v228 : BitVec 32) (v257 : BitVec 32) (k0_t39 : Fin (k0_t39_loop v228 v257).trips) : Fin 5 → Nat :=
  let c0_762 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v947 : Index := Scalar.indexCast v226
  let c103 : Index := 103#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v948 : Index := Scalar.indexCast v327
  let c0_763 : Index := 0#32
  ![0, v947.toNat, 103, v948.toNat, 0]
def k0_off1052 (v1 : BitVec 32) (k0_t34 : Fin (k0_t34_loop v1).trips) (v228 : BitVec 32) (v257 : BitVec 32) (k0_t39 : Fin (k0_t39_loop v228 v257).trips) : Fin 5 → Nat :=
  let c0_765 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v953 : Index := Scalar.indexCast v226
  let c104 : Index := 104#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v954 : Index := Scalar.indexCast v327
  let c0_766 : Index := 0#32
  ![0, v953.toNat, 104, v954.toNat, 0]
def k0_off1053 (v1 : BitVec 32) (k0_t34 : Fin (k0_t34_loop v1).trips) (v228 : BitVec 32) (v257 : BitVec 32) (k0_t39 : Fin (k0_t39_loop v228 v257).trips) : Fin 5 → Nat :=
  let c0_768 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v959 : Index := Scalar.indexCast v226
  let c105 : Index := 105#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v960 : Index := Scalar.indexCast v327
  let c0_769 : Index := 0#32
  ![0, v959.toNat, 105, v960.toNat, 0]
def k0_off1054 (v1 : BitVec 32) (k0_t34 : Fin (k0_t34_loop v1).trips) (v228 : BitVec 32) (v257 : BitVec 32) (k0_t39 : Fin (k0_t39_loop v228 v257).trips) : Fin 5 → Nat :=
  let c0_771 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v965 : Index := Scalar.indexCast v226
  let c106 : Index := 106#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v966 : Index := Scalar.indexCast v327
  let c0_772 : Index := 0#32
  ![0, v965.toNat, 106, v966.toNat, 0]
def k0_off1055 (v1 : BitVec 32) (k0_t34 : Fin (k0_t34_loop v1).trips) (v228 : BitVec 32) (v257 : BitVec 32) (k0_t39 : Fin (k0_t39_loop v228 v257).trips) : Fin 5 → Nat :=
  let c0_774 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v971 : Index := Scalar.indexCast v226
  let c107 : Index := 107#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t39
  let c16_i32_452 : BitVec 32 := 16#32
  let v326 : BitVec 32 := Scalar.muli arg19 c16_i32_452
  let v327 : BitVec 32 := v326
  let v972 : Index := Scalar.indexCast v327
  let c0_775 : Index := 0#32
  ![0, v971.toNat, 107, v972.toNat, 0]
@[reducible] def k0_t40_loop (v228 : BitVec 32) (v257 : BitVec 32) : Scf.Loop 32 :=
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let v280 : BitVec 32 := Scalar.addi v265 v279
  let c1_i32_414 : BitVec 32 := 1#32
  ⟨v283, v280, c1_i32_414⟩
def k0_mult9 (v228 : BitVec 32) (v257 : BitVec 32) (k0_t40 : Fin (k0_t40_loop v228 v257).trips) : BitVec 32 :=
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  v326
def k0_off1056 (v1 : BitVec 32) (k0_t34 : Fin (k0_t34_loop v1).trips) (v228 : BitVec 32) (v257 : BitVec 32) (k0_t40 : Fin (k0_t40_loop v228 v257).trips) : Fin 5 → Nat :=
  let c0 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v329 : Index := Scalar.indexCast v226
  let c0_453 : Index := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v330 : Index := Scalar.indexCast v327
  let c0_454 : Index := 0#32
  ![0, v329.toNat, 0, v330.toNat, 0]
def k0_off1057 (v1 : BitVec 32) (k0_t34 : Fin (k0_t34_loop v1).trips) (v228 : BitVec 32) (v257 : BitVec 32) (k0_t40 : Fin (k0_t40_loop v228 v257).trips) : Fin 5 → Nat :=
  let c0_456 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v335 : Index := Scalar.indexCast v226
  let c1 : Index := 1#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v336 : Index := Scalar.indexCast v327
  let c0_457 : Index := 0#32
  ![0, v335.toNat, 1, v336.toNat, 0]
def k0_off1058 (v1 : BitVec 32) (k0_t34 : Fin (k0_t34_loop v1).trips) (v228 : BitVec 32) (v257 : BitVec 32) (k0_t40 : Fin (k0_t40_loop v228 v257).trips) : Fin 5 → Nat :=
  let c0_459 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v341 : Index := Scalar.indexCast v226
  let c2 : Index := 2#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v342 : Index := Scalar.indexCast v327
  let c0_460 : Index := 0#32
  ![0, v341.toNat, 2, v342.toNat, 0]
def k0_off1059 (v1 : BitVec 32) (k0_t34 : Fin (k0_t34_loop v1).trips) (v228 : BitVec 32) (v257 : BitVec 32) (k0_t40 : Fin (k0_t40_loop v228 v257).trips) : Fin 5 → Nat :=
  let c0_462 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v347 : Index := Scalar.indexCast v226
  let c3 : Index := 3#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v348 : Index := Scalar.indexCast v327
  let c0_463 : Index := 0#32
  ![0, v347.toNat, 3, v348.toNat, 0]
def k0_off1060 (v1 : BitVec 32) (k0_t34 : Fin (k0_t34_loop v1).trips) (v228 : BitVec 32) (v257 : BitVec 32) (k0_t40 : Fin (k0_t40_loop v228 v257).trips) : Fin 5 → Nat :=
  let c0_465 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v353 : Index := Scalar.indexCast v226
  let c4 : Index := 4#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v354 : Index := Scalar.indexCast v327
  let c0_466 : Index := 0#32
  ![0, v353.toNat, 4, v354.toNat, 0]
def k0_off1061 (v1 : BitVec 32) (k0_t34 : Fin (k0_t34_loop v1).trips) (v228 : BitVec 32) (v257 : BitVec 32) (k0_t40 : Fin (k0_t40_loop v228 v257).trips) : Fin 5 → Nat :=
  let c0_468 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v359 : Index := Scalar.indexCast v226
  let c5 : Index := 5#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v360 : Index := Scalar.indexCast v327
  let c0_469 : Index := 0#32
  ![0, v359.toNat, 5, v360.toNat, 0]
def k0_off1062 (v1 : BitVec 32) (k0_t34 : Fin (k0_t34_loop v1).trips) (v228 : BitVec 32) (v257 : BitVec 32) (k0_t40 : Fin (k0_t40_loop v228 v257).trips) : Fin 5 → Nat :=
  let c0_471 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v365 : Index := Scalar.indexCast v226
  let c6 : Index := 6#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v366 : Index := Scalar.indexCast v327
  let c0_472 : Index := 0#32
  ![0, v365.toNat, 6, v366.toNat, 0]
def k0_off1063 (v1 : BitVec 32) (k0_t34 : Fin (k0_t34_loop v1).trips) (v228 : BitVec 32) (v257 : BitVec 32) (k0_t40 : Fin (k0_t40_loop v228 v257).trips) : Fin 5 → Nat :=
  let c0_474 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v371 : Index := Scalar.indexCast v226
  let c7 : Index := 7#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v372 : Index := Scalar.indexCast v327
  let c0_475 : Index := 0#32
  ![0, v371.toNat, 7, v372.toNat, 0]
def k0_off1064 (v1 : BitVec 32) (k0_t34 : Fin (k0_t34_loop v1).trips) (v228 : BitVec 32) (v257 : BitVec 32) (k0_t40 : Fin (k0_t40_loop v228 v257).trips) : Fin 5 → Nat :=
  let c0_477 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v377 : Index := Scalar.indexCast v226
  let c8 : Index := 8#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v378 : Index := Scalar.indexCast v327
  let c0_478 : Index := 0#32
  ![0, v377.toNat, 8, v378.toNat, 0]
def k0_off1065 (v1 : BitVec 32) (k0_t34 : Fin (k0_t34_loop v1).trips) (v228 : BitVec 32) (v257 : BitVec 32) (k0_t40 : Fin (k0_t40_loop v228 v257).trips) : Fin 5 → Nat :=
  let c0_480 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v383 : Index := Scalar.indexCast v226
  let c9 : Index := 9#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v384 : Index := Scalar.indexCast v327
  let c0_481 : Index := 0#32
  ![0, v383.toNat, 9, v384.toNat, 0]
def k0_off1066 (v1 : BitVec 32) (k0_t34 : Fin (k0_t34_loop v1).trips) (v228 : BitVec 32) (v257 : BitVec 32) (k0_t40 : Fin (k0_t40_loop v228 v257).trips) : Fin 5 → Nat :=
  let c0_483 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v389 : Index := Scalar.indexCast v226
  let c10 : Index := 10#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v390 : Index := Scalar.indexCast v327
  let c0_484 : Index := 0#32
  ![0, v389.toNat, 10, v390.toNat, 0]
def k0_off1067 (v1 : BitVec 32) (k0_t34 : Fin (k0_t34_loop v1).trips) (v228 : BitVec 32) (v257 : BitVec 32) (k0_t40 : Fin (k0_t40_loop v228 v257).trips) : Fin 5 → Nat :=
  let c0_486 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v395 : Index := Scalar.indexCast v226
  let c11 : Index := 11#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v396 : Index := Scalar.indexCast v327
  let c0_487 : Index := 0#32
  ![0, v395.toNat, 11, v396.toNat, 0]
def k0_off1068 (v1 : BitVec 32) (k0_t34 : Fin (k0_t34_loop v1).trips) (v228 : BitVec 32) (v257 : BitVec 32) (k0_t40 : Fin (k0_t40_loop v228 v257).trips) : Fin 5 → Nat :=
  let c0_489 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v401 : Index := Scalar.indexCast v226
  let c12 : Index := 12#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v402 : Index := Scalar.indexCast v327
  let c0_490 : Index := 0#32
  ![0, v401.toNat, 12, v402.toNat, 0]
def k0_off1069 (v1 : BitVec 32) (k0_t34 : Fin (k0_t34_loop v1).trips) (v228 : BitVec 32) (v257 : BitVec 32) (k0_t40 : Fin (k0_t40_loop v228 v257).trips) : Fin 5 → Nat :=
  let c0_492 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v407 : Index := Scalar.indexCast v226
  let c13 : Index := 13#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v408 : Index := Scalar.indexCast v327
  let c0_493 : Index := 0#32
  ![0, v407.toNat, 13, v408.toNat, 0]
def k0_off1070 (v1 : BitVec 32) (k0_t34 : Fin (k0_t34_loop v1).trips) (v228 : BitVec 32) (v257 : BitVec 32) (k0_t40 : Fin (k0_t40_loop v228 v257).trips) : Fin 5 → Nat :=
  let c0_495 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v413 : Index := Scalar.indexCast v226
  let c14 : Index := 14#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v414 : Index := Scalar.indexCast v327
  let c0_496 : Index := 0#32
  ![0, v413.toNat, 14, v414.toNat, 0]
def k0_off1071 (v1 : BitVec 32) (k0_t34 : Fin (k0_t34_loop v1).trips) (v228 : BitVec 32) (v257 : BitVec 32) (k0_t40 : Fin (k0_t40_loop v228 v257).trips) : Fin 5 → Nat :=
  let c0_498 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v419 : Index := Scalar.indexCast v226
  let c15 : Index := 15#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v420 : Index := Scalar.indexCast v327
  let c0_499 : Index := 0#32
  ![0, v419.toNat, 15, v420.toNat, 0]
def k0_off1072 (v1 : BitVec 32) (k0_t34 : Fin (k0_t34_loop v1).trips) (v228 : BitVec 32) (v257 : BitVec 32) (k0_t40 : Fin (k0_t40_loop v228 v257).trips) : Fin 5 → Nat :=
  let c0_501 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v425 : Index := Scalar.indexCast v226
  let c16 : Index := 16#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v426 : Index := Scalar.indexCast v327
  let c0_502 : Index := 0#32
  ![0, v425.toNat, 16, v426.toNat, 0]
def k0_off1073 (v1 : BitVec 32) (k0_t34 : Fin (k0_t34_loop v1).trips) (v228 : BitVec 32) (v257 : BitVec 32) (k0_t40 : Fin (k0_t40_loop v228 v257).trips) : Fin 5 → Nat :=
  let c0_504 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v431 : Index := Scalar.indexCast v226
  let c17 : Index := 17#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v432 : Index := Scalar.indexCast v327
  let c0_505 : Index := 0#32
  ![0, v431.toNat, 17, v432.toNat, 0]
def k0_off1074 (v1 : BitVec 32) (k0_t34 : Fin (k0_t34_loop v1).trips) (v228 : BitVec 32) (v257 : BitVec 32) (k0_t40 : Fin (k0_t40_loop v228 v257).trips) : Fin 5 → Nat :=
  let c0_507 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v437 : Index := Scalar.indexCast v226
  let c18 : Index := 18#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v438 : Index := Scalar.indexCast v327
  let c0_508 : Index := 0#32
  ![0, v437.toNat, 18, v438.toNat, 0]
def k0_off1075 (v1 : BitVec 32) (k0_t34 : Fin (k0_t34_loop v1).trips) (v228 : BitVec 32) (v257 : BitVec 32) (k0_t40 : Fin (k0_t40_loop v228 v257).trips) : Fin 5 → Nat :=
  let c0_510 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v443 : Index := Scalar.indexCast v226
  let c19 : Index := 19#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v444 : Index := Scalar.indexCast v327
  let c0_511 : Index := 0#32
  ![0, v443.toNat, 19, v444.toNat, 0]
def k0_off1076 (v1 : BitVec 32) (k0_t34 : Fin (k0_t34_loop v1).trips) (v228 : BitVec 32) (v257 : BitVec 32) (k0_t40 : Fin (k0_t40_loop v228 v257).trips) : Fin 5 → Nat :=
  let c0_513 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v449 : Index := Scalar.indexCast v226
  let c20 : Index := 20#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v450 : Index := Scalar.indexCast v327
  let c0_514 : Index := 0#32
  ![0, v449.toNat, 20, v450.toNat, 0]
def k0_off1077 (v1 : BitVec 32) (k0_t34 : Fin (k0_t34_loop v1).trips) (v228 : BitVec 32) (v257 : BitVec 32) (k0_t40 : Fin (k0_t40_loop v228 v257).trips) : Fin 5 → Nat :=
  let c0_516 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v455 : Index := Scalar.indexCast v226
  let c21 : Index := 21#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v456 : Index := Scalar.indexCast v327
  let c0_517 : Index := 0#32
  ![0, v455.toNat, 21, v456.toNat, 0]
def k0_off1078 (v1 : BitVec 32) (k0_t34 : Fin (k0_t34_loop v1).trips) (v228 : BitVec 32) (v257 : BitVec 32) (k0_t40 : Fin (k0_t40_loop v228 v257).trips) : Fin 5 → Nat :=
  let c0_519 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v461 : Index := Scalar.indexCast v226
  let c22 : Index := 22#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v462 : Index := Scalar.indexCast v327
  let c0_520 : Index := 0#32
  ![0, v461.toNat, 22, v462.toNat, 0]
def k0_off1079 (v1 : BitVec 32) (k0_t34 : Fin (k0_t34_loop v1).trips) (v228 : BitVec 32) (v257 : BitVec 32) (k0_t40 : Fin (k0_t40_loop v228 v257).trips) : Fin 5 → Nat :=
  let c0_522 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v467 : Index := Scalar.indexCast v226
  let c23 : Index := 23#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v468 : Index := Scalar.indexCast v327
  let c0_523 : Index := 0#32
  ![0, v467.toNat, 23, v468.toNat, 0]
def k0_off1080 (v1 : BitVec 32) (k0_t34 : Fin (k0_t34_loop v1).trips) (v228 : BitVec 32) (v257 : BitVec 32) (k0_t40 : Fin (k0_t40_loop v228 v257).trips) : Fin 5 → Nat :=
  let c0_525 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v473 : Index := Scalar.indexCast v226
  let c24 : Index := 24#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v474 : Index := Scalar.indexCast v327
  let c0_526 : Index := 0#32
  ![0, v473.toNat, 24, v474.toNat, 0]
def k0_off1081 (v1 : BitVec 32) (k0_t34 : Fin (k0_t34_loop v1).trips) (v228 : BitVec 32) (v257 : BitVec 32) (k0_t40 : Fin (k0_t40_loop v228 v257).trips) : Fin 5 → Nat :=
  let c0_528 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v479 : Index := Scalar.indexCast v226
  let c25 : Index := 25#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v480 : Index := Scalar.indexCast v327
  let c0_529 : Index := 0#32
  ![0, v479.toNat, 25, v480.toNat, 0]
def k0_off1082 (v1 : BitVec 32) (k0_t34 : Fin (k0_t34_loop v1).trips) (v228 : BitVec 32) (v257 : BitVec 32) (k0_t40 : Fin (k0_t40_loop v228 v257).trips) : Fin 5 → Nat :=
  let c0_531 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v485 : Index := Scalar.indexCast v226
  let c26 : Index := 26#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v486 : Index := Scalar.indexCast v327
  let c0_532 : Index := 0#32
  ![0, v485.toNat, 26, v486.toNat, 0]
def k0_off1083 (v1 : BitVec 32) (k0_t34 : Fin (k0_t34_loop v1).trips) (v228 : BitVec 32) (v257 : BitVec 32) (k0_t40 : Fin (k0_t40_loop v228 v257).trips) : Fin 5 → Nat :=
  let c0_534 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v491 : Index := Scalar.indexCast v226
  let c27 : Index := 27#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v492 : Index := Scalar.indexCast v327
  let c0_535 : Index := 0#32
  ![0, v491.toNat, 27, v492.toNat, 0]
def k0_off1084 (v1 : BitVec 32) (k0_t34 : Fin (k0_t34_loop v1).trips) (v228 : BitVec 32) (v257 : BitVec 32) (k0_t40 : Fin (k0_t40_loop v228 v257).trips) : Fin 5 → Nat :=
  let c0_537 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v497 : Index := Scalar.indexCast v226
  let c28 : Index := 28#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v498 : Index := Scalar.indexCast v327
  let c0_538 : Index := 0#32
  ![0, v497.toNat, 28, v498.toNat, 0]
def k0_off1085 (v1 : BitVec 32) (k0_t34 : Fin (k0_t34_loop v1).trips) (v228 : BitVec 32) (v257 : BitVec 32) (k0_t40 : Fin (k0_t40_loop v228 v257).trips) : Fin 5 → Nat :=
  let c0_540 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v503 : Index := Scalar.indexCast v226
  let c29 : Index := 29#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v504 : Index := Scalar.indexCast v327
  let c0_541 : Index := 0#32
  ![0, v503.toNat, 29, v504.toNat, 0]
def k0_off1086 (v1 : BitVec 32) (k0_t34 : Fin (k0_t34_loop v1).trips) (v228 : BitVec 32) (v257 : BitVec 32) (k0_t40 : Fin (k0_t40_loop v228 v257).trips) : Fin 5 → Nat :=
  let c0_543 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v509 : Index := Scalar.indexCast v226
  let c30 : Index := 30#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v510 : Index := Scalar.indexCast v327
  let c0_544 : Index := 0#32
  ![0, v509.toNat, 30, v510.toNat, 0]
def k0_off1087 (v1 : BitVec 32) (k0_t34 : Fin (k0_t34_loop v1).trips) (v228 : BitVec 32) (v257 : BitVec 32) (k0_t40 : Fin (k0_t40_loop v228 v257).trips) : Fin 5 → Nat :=
  let c0_546 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v515 : Index := Scalar.indexCast v226
  let c31 : Index := 31#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v516 : Index := Scalar.indexCast v327
  let c0_547 : Index := 0#32
  ![0, v515.toNat, 31, v516.toNat, 0]
def k0_off1088 (v1 : BitVec 32) (k0_t34 : Fin (k0_t34_loop v1).trips) (v228 : BitVec 32) (v257 : BitVec 32) (k0_t40 : Fin (k0_t40_loop v228 v257).trips) : Fin 5 → Nat :=
  let c0_549 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v521 : Index := Scalar.indexCast v226
  let c32 : Index := 32#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v522 : Index := Scalar.indexCast v327
  let c0_550 : Index := 0#32
  ![0, v521.toNat, 32, v522.toNat, 0]
def k0_off1089 (v1 : BitVec 32) (k0_t34 : Fin (k0_t34_loop v1).trips) (v228 : BitVec 32) (v257 : BitVec 32) (k0_t40 : Fin (k0_t40_loop v228 v257).trips) : Fin 5 → Nat :=
  let c0_552 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v527 : Index := Scalar.indexCast v226
  let c33 : Index := 33#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v528 : Index := Scalar.indexCast v327
  let c0_553 : Index := 0#32
  ![0, v527.toNat, 33, v528.toNat, 0]
def k0_off1090 (v1 : BitVec 32) (k0_t34 : Fin (k0_t34_loop v1).trips) (v228 : BitVec 32) (v257 : BitVec 32) (k0_t40 : Fin (k0_t40_loop v228 v257).trips) : Fin 5 → Nat :=
  let c0_555 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v533 : Index := Scalar.indexCast v226
  let c34 : Index := 34#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v534 : Index := Scalar.indexCast v327
  let c0_556 : Index := 0#32
  ![0, v533.toNat, 34, v534.toNat, 0]
def k0_off1091 (v1 : BitVec 32) (k0_t34 : Fin (k0_t34_loop v1).trips) (v228 : BitVec 32) (v257 : BitVec 32) (k0_t40 : Fin (k0_t40_loop v228 v257).trips) : Fin 5 → Nat :=
  let c0_558 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v539 : Index := Scalar.indexCast v226
  let c35 : Index := 35#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v540 : Index := Scalar.indexCast v327
  let c0_559 : Index := 0#32
  ![0, v539.toNat, 35, v540.toNat, 0]
def k0_off1092 (v1 : BitVec 32) (k0_t34 : Fin (k0_t34_loop v1).trips) (v228 : BitVec 32) (v257 : BitVec 32) (k0_t40 : Fin (k0_t40_loop v228 v257).trips) : Fin 5 → Nat :=
  let c0_561 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v545 : Index := Scalar.indexCast v226
  let c36 : Index := 36#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v546 : Index := Scalar.indexCast v327
  let c0_562 : Index := 0#32
  ![0, v545.toNat, 36, v546.toNat, 0]
def k0_off1093 (v1 : BitVec 32) (k0_t34 : Fin (k0_t34_loop v1).trips) (v228 : BitVec 32) (v257 : BitVec 32) (k0_t40 : Fin (k0_t40_loop v228 v257).trips) : Fin 5 → Nat :=
  let c0_564 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v551 : Index := Scalar.indexCast v226
  let c37 : Index := 37#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v552 : Index := Scalar.indexCast v327
  let c0_565 : Index := 0#32
  ![0, v551.toNat, 37, v552.toNat, 0]
def k0_off1094 (v1 : BitVec 32) (k0_t34 : Fin (k0_t34_loop v1).trips) (v228 : BitVec 32) (v257 : BitVec 32) (k0_t40 : Fin (k0_t40_loop v228 v257).trips) : Fin 5 → Nat :=
  let c0_567 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v557 : Index := Scalar.indexCast v226
  let c38 : Index := 38#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v558 : Index := Scalar.indexCast v327
  let c0_568 : Index := 0#32
  ![0, v557.toNat, 38, v558.toNat, 0]
def k0_off1095 (v1 : BitVec 32) (k0_t34 : Fin (k0_t34_loop v1).trips) (v228 : BitVec 32) (v257 : BitVec 32) (k0_t40 : Fin (k0_t40_loop v228 v257).trips) : Fin 5 → Nat :=
  let c0_570 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v563 : Index := Scalar.indexCast v226
  let c39 : Index := 39#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v564 : Index := Scalar.indexCast v327
  let c0_571 : Index := 0#32
  ![0, v563.toNat, 39, v564.toNat, 0]
def k0_off1096 (v1 : BitVec 32) (k0_t34 : Fin (k0_t34_loop v1).trips) (v228 : BitVec 32) (v257 : BitVec 32) (k0_t40 : Fin (k0_t40_loop v228 v257).trips) : Fin 5 → Nat :=
  let c0_573 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v569 : Index := Scalar.indexCast v226
  let c40 : Index := 40#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v570 : Index := Scalar.indexCast v327
  let c0_574 : Index := 0#32
  ![0, v569.toNat, 40, v570.toNat, 0]
def k0_off1097 (v1 : BitVec 32) (k0_t34 : Fin (k0_t34_loop v1).trips) (v228 : BitVec 32) (v257 : BitVec 32) (k0_t40 : Fin (k0_t40_loop v228 v257).trips) : Fin 5 → Nat :=
  let c0_576 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v575 : Index := Scalar.indexCast v226
  let c41 : Index := 41#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v576 : Index := Scalar.indexCast v327
  let c0_577 : Index := 0#32
  ![0, v575.toNat, 41, v576.toNat, 0]
def k0_off1098 (v1 : BitVec 32) (k0_t34 : Fin (k0_t34_loop v1).trips) (v228 : BitVec 32) (v257 : BitVec 32) (k0_t40 : Fin (k0_t40_loop v228 v257).trips) : Fin 5 → Nat :=
  let c0_579 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v581 : Index := Scalar.indexCast v226
  let c42 : Index := 42#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v582 : Index := Scalar.indexCast v327
  let c0_580 : Index := 0#32
  ![0, v581.toNat, 42, v582.toNat, 0]
def k0_off1099 (v1 : BitVec 32) (k0_t34 : Fin (k0_t34_loop v1).trips) (v228 : BitVec 32) (v257 : BitVec 32) (k0_t40 : Fin (k0_t40_loop v228 v257).trips) : Fin 5 → Nat :=
  let c0_582 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v587 : Index := Scalar.indexCast v226
  let c43 : Index := 43#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v588 : Index := Scalar.indexCast v327
  let c0_583 : Index := 0#32
  ![0, v587.toNat, 43, v588.toNat, 0]
def k0_off1100 (v1 : BitVec 32) (k0_t34 : Fin (k0_t34_loop v1).trips) (v228 : BitVec 32) (v257 : BitVec 32) (k0_t40 : Fin (k0_t40_loop v228 v257).trips) : Fin 5 → Nat :=
  let c0_585 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v593 : Index := Scalar.indexCast v226
  let c44 : Index := 44#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v594 : Index := Scalar.indexCast v327
  let c0_586 : Index := 0#32
  ![0, v593.toNat, 44, v594.toNat, 0]
def k0_off1101 (v1 : BitVec 32) (k0_t34 : Fin (k0_t34_loop v1).trips) (v228 : BitVec 32) (v257 : BitVec 32) (k0_t40 : Fin (k0_t40_loop v228 v257).trips) : Fin 5 → Nat :=
  let c0_588 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v599 : Index := Scalar.indexCast v226
  let c45 : Index := 45#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v600 : Index := Scalar.indexCast v327
  let c0_589 : Index := 0#32
  ![0, v599.toNat, 45, v600.toNat, 0]
def k0_off1102 (v1 : BitVec 32) (k0_t34 : Fin (k0_t34_loop v1).trips) (v228 : BitVec 32) (v257 : BitVec 32) (k0_t40 : Fin (k0_t40_loop v228 v257).trips) : Fin 5 → Nat :=
  let c0_591 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v605 : Index := Scalar.indexCast v226
  let c46 : Index := 46#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v606 : Index := Scalar.indexCast v327
  let c0_592 : Index := 0#32
  ![0, v605.toNat, 46, v606.toNat, 0]
def k0_off1103 (v1 : BitVec 32) (k0_t34 : Fin (k0_t34_loop v1).trips) (v228 : BitVec 32) (v257 : BitVec 32) (k0_t40 : Fin (k0_t40_loop v228 v257).trips) : Fin 5 → Nat :=
  let c0_594 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v611 : Index := Scalar.indexCast v226
  let c47 : Index := 47#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v612 : Index := Scalar.indexCast v327
  let c0_595 : Index := 0#32
  ![0, v611.toNat, 47, v612.toNat, 0]
def k0_off1104 (v1 : BitVec 32) (k0_t34 : Fin (k0_t34_loop v1).trips) (v228 : BitVec 32) (v257 : BitVec 32) (k0_t40 : Fin (k0_t40_loop v228 v257).trips) : Fin 5 → Nat :=
  let c0_597 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v617 : Index := Scalar.indexCast v226
  let c48 : Index := 48#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v618 : Index := Scalar.indexCast v327
  let c0_598 : Index := 0#32
  ![0, v617.toNat, 48, v618.toNat, 0]
def k0_off1105 (v1 : BitVec 32) (k0_t34 : Fin (k0_t34_loop v1).trips) (v228 : BitVec 32) (v257 : BitVec 32) (k0_t40 : Fin (k0_t40_loop v228 v257).trips) : Fin 5 → Nat :=
  let c0_600 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v623 : Index := Scalar.indexCast v226
  let c49 : Index := 49#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v624 : Index := Scalar.indexCast v327
  let c0_601 : Index := 0#32
  ![0, v623.toNat, 49, v624.toNat, 0]
def k0_off1106 (v1 : BitVec 32) (k0_t34 : Fin (k0_t34_loop v1).trips) (v228 : BitVec 32) (v257 : BitVec 32) (k0_t40 : Fin (k0_t40_loop v228 v257).trips) : Fin 5 → Nat :=
  let c0_603 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v629 : Index := Scalar.indexCast v226
  let c50 : Index := 50#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v630 : Index := Scalar.indexCast v327
  let c0_604 : Index := 0#32
  ![0, v629.toNat, 50, v630.toNat, 0]
def k0_off1107 (v1 : BitVec 32) (k0_t34 : Fin (k0_t34_loop v1).trips) (v228 : BitVec 32) (v257 : BitVec 32) (k0_t40 : Fin (k0_t40_loop v228 v257).trips) : Fin 5 → Nat :=
  let c0_606 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v635 : Index := Scalar.indexCast v226
  let c51 : Index := 51#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v636 : Index := Scalar.indexCast v327
  let c0_607 : Index := 0#32
  ![0, v635.toNat, 51, v636.toNat, 0]
def k0_off1108 (v1 : BitVec 32) (k0_t34 : Fin (k0_t34_loop v1).trips) (v228 : BitVec 32) (v257 : BitVec 32) (k0_t40 : Fin (k0_t40_loop v228 v257).trips) : Fin 5 → Nat :=
  let c0_609 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v641 : Index := Scalar.indexCast v226
  let c52 : Index := 52#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v642 : Index := Scalar.indexCast v327
  let c0_610 : Index := 0#32
  ![0, v641.toNat, 52, v642.toNat, 0]
def k0_off1109 (v1 : BitVec 32) (k0_t34 : Fin (k0_t34_loop v1).trips) (v228 : BitVec 32) (v257 : BitVec 32) (k0_t40 : Fin (k0_t40_loop v228 v257).trips) : Fin 5 → Nat :=
  let c0_612 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v647 : Index := Scalar.indexCast v226
  let c53 : Index := 53#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v648 : Index := Scalar.indexCast v327
  let c0_613 : Index := 0#32
  ![0, v647.toNat, 53, v648.toNat, 0]
def k0_off1110 (v1 : BitVec 32) (k0_t34 : Fin (k0_t34_loop v1).trips) (v228 : BitVec 32) (v257 : BitVec 32) (k0_t40 : Fin (k0_t40_loop v228 v257).trips) : Fin 5 → Nat :=
  let c0_615 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v653 : Index := Scalar.indexCast v226
  let c54 : Index := 54#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v654 : Index := Scalar.indexCast v327
  let c0_616 : Index := 0#32
  ![0, v653.toNat, 54, v654.toNat, 0]
def k0_off1111 (v1 : BitVec 32) (k0_t34 : Fin (k0_t34_loop v1).trips) (v228 : BitVec 32) (v257 : BitVec 32) (k0_t40 : Fin (k0_t40_loop v228 v257).trips) : Fin 5 → Nat :=
  let c0_618 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v659 : Index := Scalar.indexCast v226
  let c55 : Index := 55#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v660 : Index := Scalar.indexCast v327
  let c0_619 : Index := 0#32
  ![0, v659.toNat, 55, v660.toNat, 0]
def k0_off1112 (v1 : BitVec 32) (k0_t34 : Fin (k0_t34_loop v1).trips) (v228 : BitVec 32) (v257 : BitVec 32) (k0_t40 : Fin (k0_t40_loop v228 v257).trips) : Fin 5 → Nat :=
  let c0_621 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v665 : Index := Scalar.indexCast v226
  let c56 : Index := 56#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v666 : Index := Scalar.indexCast v327
  let c0_622 : Index := 0#32
  ![0, v665.toNat, 56, v666.toNat, 0]
def k0_off1113 (v1 : BitVec 32) (k0_t34 : Fin (k0_t34_loop v1).trips) (v228 : BitVec 32) (v257 : BitVec 32) (k0_t40 : Fin (k0_t40_loop v228 v257).trips) : Fin 5 → Nat :=
  let c0_624 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v671 : Index := Scalar.indexCast v226
  let c57 : Index := 57#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v672 : Index := Scalar.indexCast v327
  let c0_625 : Index := 0#32
  ![0, v671.toNat, 57, v672.toNat, 0]
def k0_off1114 (v1 : BitVec 32) (k0_t34 : Fin (k0_t34_loop v1).trips) (v228 : BitVec 32) (v257 : BitVec 32) (k0_t40 : Fin (k0_t40_loop v228 v257).trips) : Fin 5 → Nat :=
  let c0_627 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v677 : Index := Scalar.indexCast v226
  let c58 : Index := 58#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v678 : Index := Scalar.indexCast v327
  let c0_628 : Index := 0#32
  ![0, v677.toNat, 58, v678.toNat, 0]
def k0_off1115 (v1 : BitVec 32) (k0_t34 : Fin (k0_t34_loop v1).trips) (v228 : BitVec 32) (v257 : BitVec 32) (k0_t40 : Fin (k0_t40_loop v228 v257).trips) : Fin 5 → Nat :=
  let c0_630 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v683 : Index := Scalar.indexCast v226
  let c59 : Index := 59#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v684 : Index := Scalar.indexCast v327
  let c0_631 : Index := 0#32
  ![0, v683.toNat, 59, v684.toNat, 0]
def k0_off1116 (v1 : BitVec 32) (k0_t34 : Fin (k0_t34_loop v1).trips) (v228 : BitVec 32) (v257 : BitVec 32) (k0_t40 : Fin (k0_t40_loop v228 v257).trips) : Fin 5 → Nat :=
  let c0_633 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v689 : Index := Scalar.indexCast v226
  let c60 : Index := 60#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v690 : Index := Scalar.indexCast v327
  let c0_634 : Index := 0#32
  ![0, v689.toNat, 60, v690.toNat, 0]
def k0_off1117 (v1 : BitVec 32) (k0_t34 : Fin (k0_t34_loop v1).trips) (v228 : BitVec 32) (v257 : BitVec 32) (k0_t40 : Fin (k0_t40_loop v228 v257).trips) : Fin 5 → Nat :=
  let c0_636 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v695 : Index := Scalar.indexCast v226
  let c61 : Index := 61#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v696 : Index := Scalar.indexCast v327
  let c0_637 : Index := 0#32
  ![0, v695.toNat, 61, v696.toNat, 0]
def k0_off1118 (v1 : BitVec 32) (k0_t34 : Fin (k0_t34_loop v1).trips) (v228 : BitVec 32) (v257 : BitVec 32) (k0_t40 : Fin (k0_t40_loop v228 v257).trips) : Fin 5 → Nat :=
  let c0_639 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v701 : Index := Scalar.indexCast v226
  let c62 : Index := 62#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v702 : Index := Scalar.indexCast v327
  let c0_640 : Index := 0#32
  ![0, v701.toNat, 62, v702.toNat, 0]
def k0_off1119 (v1 : BitVec 32) (k0_t34 : Fin (k0_t34_loop v1).trips) (v228 : BitVec 32) (v257 : BitVec 32) (k0_t40 : Fin (k0_t40_loop v228 v257).trips) : Fin 5 → Nat :=
  let c0_642 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v707 : Index := Scalar.indexCast v226
  let c63 : Index := 63#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v708 : Index := Scalar.indexCast v327
  let c0_643 : Index := 0#32
  ![0, v707.toNat, 63, v708.toNat, 0]
def k0_off1120 (v1 : BitVec 32) (k0_t34 : Fin (k0_t34_loop v1).trips) (v228 : BitVec 32) (v257 : BitVec 32) (k0_t40 : Fin (k0_t40_loop v228 v257).trips) : Fin 5 → Nat :=
  let c0_645 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v713 : Index := Scalar.indexCast v226
  let c64 : Index := 64#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v714 : Index := Scalar.indexCast v327
  let c0_646 : Index := 0#32
  ![0, v713.toNat, 64, v714.toNat, 0]
def k0_off1121 (v1 : BitVec 32) (k0_t34 : Fin (k0_t34_loop v1).trips) (v228 : BitVec 32) (v257 : BitVec 32) (k0_t40 : Fin (k0_t40_loop v228 v257).trips) : Fin 5 → Nat :=
  let c0_648 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v719 : Index := Scalar.indexCast v226
  let c65 : Index := 65#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v720 : Index := Scalar.indexCast v327
  let c0_649 : Index := 0#32
  ![0, v719.toNat, 65, v720.toNat, 0]
def k0_off1122 (v1 : BitVec 32) (k0_t34 : Fin (k0_t34_loop v1).trips) (v228 : BitVec 32) (v257 : BitVec 32) (k0_t40 : Fin (k0_t40_loop v228 v257).trips) : Fin 5 → Nat :=
  let c0_651 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v725 : Index := Scalar.indexCast v226
  let c66 : Index := 66#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v726 : Index := Scalar.indexCast v327
  let c0_652 : Index := 0#32
  ![0, v725.toNat, 66, v726.toNat, 0]
def k0_off1123 (v1 : BitVec 32) (k0_t34 : Fin (k0_t34_loop v1).trips) (v228 : BitVec 32) (v257 : BitVec 32) (k0_t40 : Fin (k0_t40_loop v228 v257).trips) : Fin 5 → Nat :=
  let c0_654 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v731 : Index := Scalar.indexCast v226
  let c67 : Index := 67#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v732 : Index := Scalar.indexCast v327
  let c0_655 : Index := 0#32
  ![0, v731.toNat, 67, v732.toNat, 0]
def k0_off1124 (v1 : BitVec 32) (k0_t34 : Fin (k0_t34_loop v1).trips) (v228 : BitVec 32) (v257 : BitVec 32) (k0_t40 : Fin (k0_t40_loop v228 v257).trips) : Fin 5 → Nat :=
  let c0_657 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v737 : Index := Scalar.indexCast v226
  let c68 : Index := 68#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v738 : Index := Scalar.indexCast v327
  let c0_658 : Index := 0#32
  ![0, v737.toNat, 68, v738.toNat, 0]
def k0_off1125 (v1 : BitVec 32) (k0_t34 : Fin (k0_t34_loop v1).trips) (v228 : BitVec 32) (v257 : BitVec 32) (k0_t40 : Fin (k0_t40_loop v228 v257).trips) : Fin 5 → Nat :=
  let c0_660 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v743 : Index := Scalar.indexCast v226
  let c69 : Index := 69#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v744 : Index := Scalar.indexCast v327
  let c0_661 : Index := 0#32
  ![0, v743.toNat, 69, v744.toNat, 0]
def k0_off1126 (v1 : BitVec 32) (k0_t34 : Fin (k0_t34_loop v1).trips) (v228 : BitVec 32) (v257 : BitVec 32) (k0_t40 : Fin (k0_t40_loop v228 v257).trips) : Fin 5 → Nat :=
  let c0_663 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v749 : Index := Scalar.indexCast v226
  let c70 : Index := 70#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v750 : Index := Scalar.indexCast v327
  let c0_664 : Index := 0#32
  ![0, v749.toNat, 70, v750.toNat, 0]
def k0_off1127 (v1 : BitVec 32) (k0_t34 : Fin (k0_t34_loop v1).trips) (v228 : BitVec 32) (v257 : BitVec 32) (k0_t40 : Fin (k0_t40_loop v228 v257).trips) : Fin 5 → Nat :=
  let c0_666 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v755 : Index := Scalar.indexCast v226
  let c71 : Index := 71#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v756 : Index := Scalar.indexCast v327
  let c0_667 : Index := 0#32
  ![0, v755.toNat, 71, v756.toNat, 0]
def k0_off1128 (v1 : BitVec 32) (k0_t34 : Fin (k0_t34_loop v1).trips) (v228 : BitVec 32) (v257 : BitVec 32) (k0_t40 : Fin (k0_t40_loop v228 v257).trips) : Fin 5 → Nat :=
  let c0_669 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v761 : Index := Scalar.indexCast v226
  let c72 : Index := 72#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v762 : Index := Scalar.indexCast v327
  let c0_670 : Index := 0#32
  ![0, v761.toNat, 72, v762.toNat, 0]
def k0_off1129 (v1 : BitVec 32) (k0_t34 : Fin (k0_t34_loop v1).trips) (v228 : BitVec 32) (v257 : BitVec 32) (k0_t40 : Fin (k0_t40_loop v228 v257).trips) : Fin 5 → Nat :=
  let c0_672 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v767 : Index := Scalar.indexCast v226
  let c73 : Index := 73#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v768 : Index := Scalar.indexCast v327
  let c0_673 : Index := 0#32
  ![0, v767.toNat, 73, v768.toNat, 0]
def k0_off1130 (v1 : BitVec 32) (k0_t34 : Fin (k0_t34_loop v1).trips) (v228 : BitVec 32) (v257 : BitVec 32) (k0_t40 : Fin (k0_t40_loop v228 v257).trips) : Fin 5 → Nat :=
  let c0_675 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v773 : Index := Scalar.indexCast v226
  let c74 : Index := 74#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v774 : Index := Scalar.indexCast v327
  let c0_676 : Index := 0#32
  ![0, v773.toNat, 74, v774.toNat, 0]
def k0_off1131 (v1 : BitVec 32) (k0_t34 : Fin (k0_t34_loop v1).trips) (v228 : BitVec 32) (v257 : BitVec 32) (k0_t40 : Fin (k0_t40_loop v228 v257).trips) : Fin 5 → Nat :=
  let c0_678 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v779 : Index := Scalar.indexCast v226
  let c75 : Index := 75#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v780 : Index := Scalar.indexCast v327
  let c0_679 : Index := 0#32
  ![0, v779.toNat, 75, v780.toNat, 0]
def k0_off1132 (v1 : BitVec 32) (k0_t34 : Fin (k0_t34_loop v1).trips) (v228 : BitVec 32) (v257 : BitVec 32) (k0_t40 : Fin (k0_t40_loop v228 v257).trips) : Fin 5 → Nat :=
  let c0_681 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v785 : Index := Scalar.indexCast v226
  let c76 : Index := 76#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v786 : Index := Scalar.indexCast v327
  let c0_682 : Index := 0#32
  ![0, v785.toNat, 76, v786.toNat, 0]
def k0_off1133 (v1 : BitVec 32) (k0_t34 : Fin (k0_t34_loop v1).trips) (v228 : BitVec 32) (v257 : BitVec 32) (k0_t40 : Fin (k0_t40_loop v228 v257).trips) : Fin 5 → Nat :=
  let c0_684 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v791 : Index := Scalar.indexCast v226
  let c77 : Index := 77#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v792 : Index := Scalar.indexCast v327
  let c0_685 : Index := 0#32
  ![0, v791.toNat, 77, v792.toNat, 0]
def k0_off1134 (v1 : BitVec 32) (k0_t34 : Fin (k0_t34_loop v1).trips) (v228 : BitVec 32) (v257 : BitVec 32) (k0_t40 : Fin (k0_t40_loop v228 v257).trips) : Fin 5 → Nat :=
  let c0_687 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v797 : Index := Scalar.indexCast v226
  let c78 : Index := 78#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v798 : Index := Scalar.indexCast v327
  let c0_688 : Index := 0#32
  ![0, v797.toNat, 78, v798.toNat, 0]
def k0_off1135 (v1 : BitVec 32) (k0_t34 : Fin (k0_t34_loop v1).trips) (v228 : BitVec 32) (v257 : BitVec 32) (k0_t40 : Fin (k0_t40_loop v228 v257).trips) : Fin 5 → Nat :=
  let c0_690 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v803 : Index := Scalar.indexCast v226
  let c79 : Index := 79#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v804 : Index := Scalar.indexCast v327
  let c0_691 : Index := 0#32
  ![0, v803.toNat, 79, v804.toNat, 0]
def k0_off1136 (v1 : BitVec 32) (k0_t34 : Fin (k0_t34_loop v1).trips) (v228 : BitVec 32) (v257 : BitVec 32) (k0_t40 : Fin (k0_t40_loop v228 v257).trips) : Fin 5 → Nat :=
  let c0_693 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v809 : Index := Scalar.indexCast v226
  let c80 : Index := 80#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v810 : Index := Scalar.indexCast v327
  let c0_694 : Index := 0#32
  ![0, v809.toNat, 80, v810.toNat, 0]
def k0_off1137 (v1 : BitVec 32) (k0_t34 : Fin (k0_t34_loop v1).trips) (v228 : BitVec 32) (v257 : BitVec 32) (k0_t40 : Fin (k0_t40_loop v228 v257).trips) : Fin 5 → Nat :=
  let c0_696 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v815 : Index := Scalar.indexCast v226
  let c81 : Index := 81#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v816 : Index := Scalar.indexCast v327
  let c0_697 : Index := 0#32
  ![0, v815.toNat, 81, v816.toNat, 0]
def k0_off1138 (v1 : BitVec 32) (k0_t34 : Fin (k0_t34_loop v1).trips) (v228 : BitVec 32) (v257 : BitVec 32) (k0_t40 : Fin (k0_t40_loop v228 v257).trips) : Fin 5 → Nat :=
  let c0_699 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v821 : Index := Scalar.indexCast v226
  let c82 : Index := 82#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v822 : Index := Scalar.indexCast v327
  let c0_700 : Index := 0#32
  ![0, v821.toNat, 82, v822.toNat, 0]
def k0_off1139 (v1 : BitVec 32) (k0_t34 : Fin (k0_t34_loop v1).trips) (v228 : BitVec 32) (v257 : BitVec 32) (k0_t40 : Fin (k0_t40_loop v228 v257).trips) : Fin 5 → Nat :=
  let c0_702 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v827 : Index := Scalar.indexCast v226
  let c83 : Index := 83#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v828 : Index := Scalar.indexCast v327
  let c0_703 : Index := 0#32
  ![0, v827.toNat, 83, v828.toNat, 0]
def k0_off1140 (v1 : BitVec 32) (k0_t34 : Fin (k0_t34_loop v1).trips) (v228 : BitVec 32) (v257 : BitVec 32) (k0_t40 : Fin (k0_t40_loop v228 v257).trips) : Fin 5 → Nat :=
  let c0_705 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v833 : Index := Scalar.indexCast v226
  let c84 : Index := 84#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v834 : Index := Scalar.indexCast v327
  let c0_706 : Index := 0#32
  ![0, v833.toNat, 84, v834.toNat, 0]
def k0_off1141 (v1 : BitVec 32) (k0_t34 : Fin (k0_t34_loop v1).trips) (v228 : BitVec 32) (v257 : BitVec 32) (k0_t40 : Fin (k0_t40_loop v228 v257).trips) : Fin 5 → Nat :=
  let c0_708 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v839 : Index := Scalar.indexCast v226
  let c85 : Index := 85#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v840 : Index := Scalar.indexCast v327
  let c0_709 : Index := 0#32
  ![0, v839.toNat, 85, v840.toNat, 0]
def k0_off1142 (v1 : BitVec 32) (k0_t34 : Fin (k0_t34_loop v1).trips) (v228 : BitVec 32) (v257 : BitVec 32) (k0_t40 : Fin (k0_t40_loop v228 v257).trips) : Fin 5 → Nat :=
  let c0_711 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v845 : Index := Scalar.indexCast v226
  let c86 : Index := 86#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v846 : Index := Scalar.indexCast v327
  let c0_712 : Index := 0#32
  ![0, v845.toNat, 86, v846.toNat, 0]
def k0_off1143 (v1 : BitVec 32) (k0_t34 : Fin (k0_t34_loop v1).trips) (v228 : BitVec 32) (v257 : BitVec 32) (k0_t40 : Fin (k0_t40_loop v228 v257).trips) : Fin 5 → Nat :=
  let c0_714 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v851 : Index := Scalar.indexCast v226
  let c87 : Index := 87#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v852 : Index := Scalar.indexCast v327
  let c0_715 : Index := 0#32
  ![0, v851.toNat, 87, v852.toNat, 0]
def k0_off1144 (v1 : BitVec 32) (k0_t34 : Fin (k0_t34_loop v1).trips) (v228 : BitVec 32) (v257 : BitVec 32) (k0_t40 : Fin (k0_t40_loop v228 v257).trips) : Fin 5 → Nat :=
  let c0_717 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v857 : Index := Scalar.indexCast v226
  let c88 : Index := 88#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v858 : Index := Scalar.indexCast v327
  let c0_718 : Index := 0#32
  ![0, v857.toNat, 88, v858.toNat, 0]
def k0_off1145 (v1 : BitVec 32) (k0_t34 : Fin (k0_t34_loop v1).trips) (v228 : BitVec 32) (v257 : BitVec 32) (k0_t40 : Fin (k0_t40_loop v228 v257).trips) : Fin 5 → Nat :=
  let c0_720 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v863 : Index := Scalar.indexCast v226
  let c89 : Index := 89#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v864 : Index := Scalar.indexCast v327
  let c0_721 : Index := 0#32
  ![0, v863.toNat, 89, v864.toNat, 0]
def k0_off1146 (v1 : BitVec 32) (k0_t34 : Fin (k0_t34_loop v1).trips) (v228 : BitVec 32) (v257 : BitVec 32) (k0_t40 : Fin (k0_t40_loop v228 v257).trips) : Fin 5 → Nat :=
  let c0_723 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v869 : Index := Scalar.indexCast v226
  let c90 : Index := 90#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v870 : Index := Scalar.indexCast v327
  let c0_724 : Index := 0#32
  ![0, v869.toNat, 90, v870.toNat, 0]
def k0_off1147 (v1 : BitVec 32) (k0_t34 : Fin (k0_t34_loop v1).trips) (v228 : BitVec 32) (v257 : BitVec 32) (k0_t40 : Fin (k0_t40_loop v228 v257).trips) : Fin 5 → Nat :=
  let c0_726 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v875 : Index := Scalar.indexCast v226
  let c91 : Index := 91#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v876 : Index := Scalar.indexCast v327
  let c0_727 : Index := 0#32
  ![0, v875.toNat, 91, v876.toNat, 0]
def k0_off1148 (v1 : BitVec 32) (k0_t34 : Fin (k0_t34_loop v1).trips) (v228 : BitVec 32) (v257 : BitVec 32) (k0_t40 : Fin (k0_t40_loop v228 v257).trips) : Fin 5 → Nat :=
  let c0_729 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v881 : Index := Scalar.indexCast v226
  let c92 : Index := 92#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v882 : Index := Scalar.indexCast v327
  let c0_730 : Index := 0#32
  ![0, v881.toNat, 92, v882.toNat, 0]
def k0_off1149 (v1 : BitVec 32) (k0_t34 : Fin (k0_t34_loop v1).trips) (v228 : BitVec 32) (v257 : BitVec 32) (k0_t40 : Fin (k0_t40_loop v228 v257).trips) : Fin 5 → Nat :=
  let c0_732 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v887 : Index := Scalar.indexCast v226
  let c93 : Index := 93#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v888 : Index := Scalar.indexCast v327
  let c0_733 : Index := 0#32
  ![0, v887.toNat, 93, v888.toNat, 0]
def k0_off1150 (v1 : BitVec 32) (k0_t34 : Fin (k0_t34_loop v1).trips) (v228 : BitVec 32) (v257 : BitVec 32) (k0_t40 : Fin (k0_t40_loop v228 v257).trips) : Fin 5 → Nat :=
  let c0_735 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v893 : Index := Scalar.indexCast v226
  let c94 : Index := 94#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v894 : Index := Scalar.indexCast v327
  let c0_736 : Index := 0#32
  ![0, v893.toNat, 94, v894.toNat, 0]
def k0_off1151 (v1 : BitVec 32) (k0_t34 : Fin (k0_t34_loop v1).trips) (v228 : BitVec 32) (v257 : BitVec 32) (k0_t40 : Fin (k0_t40_loop v228 v257).trips) : Fin 5 → Nat :=
  let c0_738 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v899 : Index := Scalar.indexCast v226
  let c95 : Index := 95#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v900 : Index := Scalar.indexCast v327
  let c0_739 : Index := 0#32
  ![0, v899.toNat, 95, v900.toNat, 0]
def k0_off1152 (v1 : BitVec 32) (k0_t34 : Fin (k0_t34_loop v1).trips) (v228 : BitVec 32) (v257 : BitVec 32) (k0_t40 : Fin (k0_t40_loop v228 v257).trips) : Fin 5 → Nat :=
  let c0_741 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v905 : Index := Scalar.indexCast v226
  let c96 : Index := 96#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v906 : Index := Scalar.indexCast v327
  let c0_742 : Index := 0#32
  ![0, v905.toNat, 96, v906.toNat, 0]
def k0_off1153 (v1 : BitVec 32) (k0_t34 : Fin (k0_t34_loop v1).trips) (v228 : BitVec 32) (v257 : BitVec 32) (k0_t40 : Fin (k0_t40_loop v228 v257).trips) : Fin 5 → Nat :=
  let c0_744 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v911 : Index := Scalar.indexCast v226
  let c97 : Index := 97#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v912 : Index := Scalar.indexCast v327
  let c0_745 : Index := 0#32
  ![0, v911.toNat, 97, v912.toNat, 0]
def k0_off1154 (v1 : BitVec 32) (k0_t34 : Fin (k0_t34_loop v1).trips) (v228 : BitVec 32) (v257 : BitVec 32) (k0_t40 : Fin (k0_t40_loop v228 v257).trips) : Fin 5 → Nat :=
  let c0_747 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v917 : Index := Scalar.indexCast v226
  let c98 : Index := 98#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v918 : Index := Scalar.indexCast v327
  let c0_748 : Index := 0#32
  ![0, v917.toNat, 98, v918.toNat, 0]
def k0_off1155 (v1 : BitVec 32) (k0_t34 : Fin (k0_t34_loop v1).trips) (v228 : BitVec 32) (v257 : BitVec 32) (k0_t40 : Fin (k0_t40_loop v228 v257).trips) : Fin 5 → Nat :=
  let c0_750 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v923 : Index := Scalar.indexCast v226
  let c99 : Index := 99#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v924 : Index := Scalar.indexCast v327
  let c0_751 : Index := 0#32
  ![0, v923.toNat, 99, v924.toNat, 0]
def k0_off1156 (v1 : BitVec 32) (k0_t34 : Fin (k0_t34_loop v1).trips) (v228 : BitVec 32) (v257 : BitVec 32) (k0_t40 : Fin (k0_t40_loop v228 v257).trips) : Fin 5 → Nat :=
  let c0_753 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v929 : Index := Scalar.indexCast v226
  let c100 : Index := 100#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v930 : Index := Scalar.indexCast v327
  let c0_754 : Index := 0#32
  ![0, v929.toNat, 100, v930.toNat, 0]
def k0_off1157 (v1 : BitVec 32) (k0_t34 : Fin (k0_t34_loop v1).trips) (v228 : BitVec 32) (v257 : BitVec 32) (k0_t40 : Fin (k0_t40_loop v228 v257).trips) : Fin 5 → Nat :=
  let c0_756 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v935 : Index := Scalar.indexCast v226
  let c101 : Index := 101#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v936 : Index := Scalar.indexCast v327
  let c0_757 : Index := 0#32
  ![0, v935.toNat, 101, v936.toNat, 0]
def k0_off1158 (v1 : BitVec 32) (k0_t34 : Fin (k0_t34_loop v1).trips) (v228 : BitVec 32) (v257 : BitVec 32) (k0_t40 : Fin (k0_t40_loop v228 v257).trips) : Fin 5 → Nat :=
  let c0_759 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v941 : Index := Scalar.indexCast v226
  let c102 : Index := 102#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v942 : Index := Scalar.indexCast v327
  let c0_760 : Index := 0#32
  ![0, v941.toNat, 102, v942.toNat, 0]
def k0_off1159 (v1 : BitVec 32) (k0_t34 : Fin (k0_t34_loop v1).trips) (v228 : BitVec 32) (v257 : BitVec 32) (k0_t40 : Fin (k0_t40_loop v228 v257).trips) : Fin 5 → Nat :=
  let c0_762 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v947 : Index := Scalar.indexCast v226
  let c103 : Index := 103#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v948 : Index := Scalar.indexCast v327
  let c0_763 : Index := 0#32
  ![0, v947.toNat, 103, v948.toNat, 0]
def k0_off1160 (v1 : BitVec 32) (k0_t34 : Fin (k0_t34_loop v1).trips) (v228 : BitVec 32) (v257 : BitVec 32) (k0_t40 : Fin (k0_t40_loop v228 v257).trips) : Fin 5 → Nat :=
  let c0_765 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v953 : Index := Scalar.indexCast v226
  let c104 : Index := 104#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v954 : Index := Scalar.indexCast v327
  let c0_766 : Index := 0#32
  ![0, v953.toNat, 104, v954.toNat, 0]
def k0_off1161 (v1 : BitVec 32) (k0_t34 : Fin (k0_t34_loop v1).trips) (v228 : BitVec 32) (v257 : BitVec 32) (k0_t40 : Fin (k0_t40_loop v228 v257).trips) : Fin 5 → Nat :=
  let c0_768 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v959 : Index := Scalar.indexCast v226
  let c105 : Index := 105#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v960 : Index := Scalar.indexCast v327
  let c0_769 : Index := 0#32
  ![0, v959.toNat, 105, v960.toNat, 0]
def k0_off1162 (v1 : BitVec 32) (k0_t34 : Fin (k0_t34_loop v1).trips) (v228 : BitVec 32) (v257 : BitVec 32) (k0_t40 : Fin (k0_t40_loop v228 v257).trips) : Fin 5 → Nat :=
  let c0_771 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v965 : Index := Scalar.indexCast v226
  let c106 : Index := 106#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v966 : Index := Scalar.indexCast v327
  let c0_772 : Index := 0#32
  ![0, v965.toNat, 106, v966.toNat, 0]
def k0_off1163 (v1 : BitVec 32) (k0_t34 : Fin (k0_t34_loop v1).trips) (v228 : BitVec 32) (v257 : BitVec 32) (k0_t40 : Fin (k0_t40_loop v228 v257).trips) : Fin 5 → Nat :=
  let c0_774 : Index := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v971 : Index := Scalar.indexCast v226
  let c107 : Index := 107#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t40
  let c16_i32_452 : BitVec 32 := 16#32
  let v326 : BitVec 32 := Scalar.muli arg19 c16_i32_452
  let v327 : BitVec 32 := v326
  let v972 : Index := Scalar.indexCast v327
  let c0_775 : Index := 0#32
  ![0, v971.toNat, 107, v972.toNat, 0]
def k0_off1164 (v1 : BitVec 32) (k0_t34 : Fin (k0_t34_loop v1).trips) : Fin 1 → Nat :=
  let c0_i32_367 : BitVec 32 := 0#32
  let c1_i32_369 : BitVec 32 := 1#32
  let arg18 : BitVec 32 := Scf.iv c0_i32_367 c1_i32_369 k0_t34
  let c2_i32_452 : BitVec 32 := 2#32
  let v326 : BitVec 32 := Scalar.addi arg18 c2_i32_452
  let v327 : Index := Scalar.indexCast v326
  ![v327.toNat]
def k0_cond4 (v1 : BitVec 32) (k0_t34 : Fin (k0_t34_loop v1).trips) : BitVec 1 :=
  let c0_i32_367 : BitVec 32 := 0#32
  let c1_i32_369 : BitVec 32 := 1#32
  let arg18 : BitVec 32 := Scf.iv c0_i32_367 c1_i32_369 k0_t34
  let c2_i32_415 : BitVec 32 := 2#32
  let v284 : BitVec 32 := Scalar.addi arg18 c2_i32_415
  let v285 : BitVec 1 := Scalar.cmpi .slt v284 v1
  let v286 : BitVec 32 := Scalar.extui v285
  let c0_i32_416 : BitVec 32 := 0#32
  let v287 : BitVec 1 := Scalar.cmpi .ne v286 c0_i32_416
  v287

def k0_off1165 (v328 : BitVec 32) : Fin 1 → Nat :=
  let c0_i32_454 : BitVec 32 := 0#32
  let v330 : BitVec 1 := Scalar.cmpi .sgt v328 c0_i32_454
  let v331 : BitVec 32 := Scalar.extui v330
  let c0_i32_455 : BitVec 32 := 0#32
  let v332 : BitVec 1 := Scalar.cmpi .slt v328 c0_i32_455
  let v333 : BitVec 32 := Scalar.extui v332
  let v334 : BitVec 32 := Scalar.subi v331 v333
  let c16_i32_453 : BitVec 32 := 16#32
  let c0_i32_456 : BitVec 32 := 0#32
  let v335 : BitVec 1 := Scalar.cmpi .sgt c16_i32_453 c0_i32_456
  let v336 : BitVec 32 := Scalar.extui v335
  let c0_i32_457 : BitVec 32 := 0#32
  let v337 : BitVec 1 := Scalar.cmpi .slt c16_i32_453 c0_i32_457
  let v338 : BitVec 32 := Scalar.extui v337
  let v339 : BitVec 32 := Scalar.subi v336 v338
  let v340 : BitVec 1 := Scalar.cmpi .ne v334 v339
  let v341 : BitVec 32 := Scalar.remsi v328 c16_i32_453
  let c0_i32_458 : BitVec 32 := 0#32
  let v342 : BitVec 1 := Scalar.cmpi .ne v341 c0_i32_458
  let v343 : BitVec 1 := Scalar.andi v340 v342
  let v329 : BitVec 32 := Scalar.divsi v328 c16_i32_453
  let c1_i32_459 : BitVec 32 := 1#32
  let v344 : BitVec 32 := Scalar.subi v329 c1_i32_459
  let v345 : BitVec 32 := Scalar.select v343 v344 v329
  let v356 : Index := Scalar.indexCast v345
  ![v356.toNat]

def k0_chk24 (v1 : BitVec 32) (k0_t34 : Fin (k0_t34_loop v1).trips) (v328 : BitVec 32) : Prop :=
  (∀ (k0_h4 : k0_cond4 v1 k0_t34 = 1#1), ∀ a, (k0_off1165 v328) a + S1.size a ≤ S8.size a)
theorem k0_off1165_inb : ∀ (v1 : BitVec 32) (k0_t34 : Fin (k0_t34_loop v1).trips) (v328 : BitVec 32) (k0_hw24 : k0_chk24 v1 k0_t34 v328), ∀ (k0_h4 : k0_cond4 v1 k0_t34 = 1#1), ∀ a, (k0_off1165 v328) a + S1.size a ≤ S8.size a := fun v1 k0_t34 v328 k0_hw24 k0_h4 => k0_hw24 k0_h4

@[reducible] def k0_t41_loop (v328 : BitVec 32) (v357 : BitVec 32) : Scf.Loop 32 :=
  let c0_i32_474 : BitVec 32 := 0#32
  let c8_i32_472 : BitVec 32 := 8#32
  let c0_i32_471 : BitVec 32 := 0#32
  let c2048_i32_467 : BitVec 32 := 2048#32
  let c0_i32_466 : BitVec 32 := 0#32
  let v358 : BitVec 32 := Scalar.maxsi c0_i32_466 v357
  let v359 : BitVec 32 := Scalar.minsi c2048_i32_467 v358
  let c15_i32_468 : BitVec 32 := 15#32
  let v360 : BitVec 32 := Scalar.addi v359 c15_i32_468
  let c16_i32_469 : BitVec 32 := 16#32
  let v361 : BitVec 32 := Scalar.divsi v360 c16_i32_469
  let c16_i32_460 : BitVec 32 := 16#32
  let c0_i32_461 : BitVec 32 := 0#32
  let v346 : BitVec 1 := Scalar.cmpi .eq c16_i32_460 c0_i32_461
  let c1_i32_462 : BitVec 32 := 1#32
  let v347 : BitVec 32 := Scalar.select v346 c1_i32_462 c16_i32_460
  let v348 : BitVec 32 := Scalar.remsi v328 v347
  let c0_i32_464 : BitVec 32 := 0#32
  let v350 : BitVec 1 := Scalar.cmpi .slt v348 c0_i32_464
  let c0_i32_465 : BitVec 32 := 0#32
  let v351 : BitVec 1 := Scalar.cmpi .slt v347 c0_i32_465
  let v352 : BitVec 1 := Scalar.xori v350 v351
  let c0_i32_463 : BitVec 32 := 0#32
  let v349 : BitVec 1 := Scalar.cmpi .ne v348 c0_i32_463
  let v353 : BitVec 1 := Scalar.andi v352 v349
  let v354 : BitVec 32 := Scalar.addi v348 v347
  let v355 : BitVec 32 := Scalar.select v353 v354 v348
  let c8_i32_470 : BitVec 32 := 8#32
  let v362 : BitVec 32 := Scalar.muli v355 c8_i32_470
  let v363 : BitVec 32 := Scalar.subi v361 v362
  let v364 : BitVec 32 := Scalar.maxsi c0_i32_471 v363
  let v365 : BitVec 32 := Scalar.minsi c8_i32_472 v364
  let v366 : BitVec 32 := Scalar.subi v365 c0_i32_474
  let c1_i32_475 : BitVec 32 := 1#32
  let v368 : BitVec 32 := Scalar.divsi v366 c1_i32_475
  let v369 : BitVec 32 := Scalar.muli v368 c1_i32_475
  let v370 : BitVec 32 := Scalar.addi c0_i32_474 v369
  let c1_i32_476 : BitVec 32 := 1#32
  ⟨c0_i32_474, v370, c1_i32_476⟩

def k0_off1166 (v328 : BitVec 32) (v357 : BitVec 32) (k0_t41 : Fin (k0_t41_loop v328 v357).trips) : Fin 2 → Nat :=
  let c0_i32_454 : BitVec 32 := 0#32
  let v330 : BitVec 1 := Scalar.cmpi .sgt v328 c0_i32_454
  let v331 : BitVec 32 := Scalar.extui v330
  let c0_i32_455 : BitVec 32 := 0#32
  let v332 : BitVec 1 := Scalar.cmpi .slt v328 c0_i32_455
  let v333 : BitVec 32 := Scalar.extui v332
  let v334 : BitVec 32 := Scalar.subi v331 v333
  let c16_i32_453 : BitVec 32 := 16#32
  let c0_i32_456 : BitVec 32 := 0#32
  let v335 : BitVec 1 := Scalar.cmpi .sgt c16_i32_453 c0_i32_456
  let v336 : BitVec 32 := Scalar.extui v335
  let c0_i32_457 : BitVec 32 := 0#32
  let v337 : BitVec 1 := Scalar.cmpi .slt c16_i32_453 c0_i32_457
  let v338 : BitVec 32 := Scalar.extui v337
  let v339 : BitVec 32 := Scalar.subi v336 v338
  let v340 : BitVec 1 := Scalar.cmpi .ne v334 v339
  let v341 : BitVec 32 := Scalar.remsi v328 c16_i32_453
  let c0_i32_458 : BitVec 32 := 0#32
  let v342 : BitVec 1 := Scalar.cmpi .ne v341 c0_i32_458
  let v343 : BitVec 1 := Scalar.andi v340 v342
  let v329 : BitVec 32 := Scalar.divsi v328 c16_i32_453
  let c1_i32_459 : BitVec 32 := 1#32
  let v344 : BitVec 32 := Scalar.subi v329 c1_i32_459
  let v345 : BitVec 32 := Scalar.select v343 v344 v329
  let v373 : Index := Scalar.indexCast v345
  let c16_i32_460 : BitVec 32 := 16#32
  let c0_i32_461 : BitVec 32 := 0#32
  let v346 : BitVec 1 := Scalar.cmpi .eq c16_i32_460 c0_i32_461
  let c1_i32_462 : BitVec 32 := 1#32
  let v347 : BitVec 32 := Scalar.select v346 c1_i32_462 c16_i32_460
  let v348 : BitVec 32 := Scalar.remsi v328 v347
  let c0_i32_464 : BitVec 32 := 0#32
  let v350 : BitVec 1 := Scalar.cmpi .slt v348 c0_i32_464
  let c0_i32_465 : BitVec 32 := 0#32
  let v351 : BitVec 1 := Scalar.cmpi .slt v347 c0_i32_465
  let v352 : BitVec 1 := Scalar.xori v350 v351
  let c0_i32_463 : BitVec 32 := 0#32
  let v349 : BitVec 1 := Scalar.cmpi .ne v348 c0_i32_463
  let v353 : BitVec 1 := Scalar.andi v352 v349
  let v354 : BitVec 32 := Scalar.addi v348 v347
  let v355 : BitVec 32 := Scalar.select v353 v354 v348
  let c8_i32_478 : BitVec 32 := 8#32
  let v371 : BitVec 32 := Scalar.muli v355 c8_i32_478
  let c0_i32_474 : BitVec 32 := 0#32
  let c1_i32_476 : BitVec 32 := 1#32
  let arg19 : BitVec 32 := Scf.iv c0_i32_474 c1_i32_476 k0_t41
  let v372 : BitVec 32 := Scalar.addi v371 arg19
  let v374 : Index := Scalar.indexCast v372
  ![v373.toNat, v374.toNat]
def k0_off1167 (v1 : BitVec 32) (k0_t34 : Fin (k0_t34_loop v1).trips) : Fin 2 → Nat :=
  let c0_i32_480 : BitVec 32 := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  ![0, v226.toNat]
def k0_off1168 (v1 : BitVec 32) (k0_t34 : Fin (k0_t34_loop v1).trips) (v328 : BitVec 32) (v357 : BitVec 32) (k0_t41 : Fin (k0_t41_loop v328 v357).trips) : Fin 5 → Nat :=
  let c0_i32_479 : BitVec 32 := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let c0_i32_474 : BitVec 32 := 0#32
  let c1_i32_476 : BitVec 32 := 1#32
  let arg19 : BitVec 32 := Scf.iv c0_i32_474 c1_i32_476 k0_t41
  let c0_i32_481 : BitVec 32 := 0#32
  let c0_i32_482 : BitVec 32 := 0#32
  ![0, v226.toNat, arg19.toNat, 0, 0]
def k0_off1169 (v375 : BitVec 32) : Fin 3 → Nat :=
  let c0_i32_483 : BitVec 32 := 0#32
  let c0_i32_484 : BitVec 32 := 0#32
  ![v375.toNat, 0, 0]

def k0_chk26 (v1 : BitVec 32) (k0_t34 : Fin (k0_t34_loop v1).trips) (v375 : BitVec 32) : Prop :=
  (∀ (k0_h4 : k0_cond4 v1 k0_t34 = 1#1), ∀ a, (k0_off1169 v375) a + S1x1728x128.size a ≤ S1280x1728x128.size a) ∧
  (∀ (k0_h4 : k0_cond4 v1 k0_t34 = 1#1), ∀ (hinb : ∀ a, (k0_off1169 v375) a + S1x1728x128.size a ≤ S1280x1728x128.size a), (Rect.unit (s := S1280x1728x128) (k0_off1169 v375) S1x1728x128.size hinb).WholeWords (EltTy.packing .fp8e4m3))
theorem k0_off1169_inb : ∀ (v1 : BitVec 32) (k0_t34 : Fin (k0_t34_loop v1).trips) (v375 : BitVec 32) (k0_hw26 : k0_chk26 v1 k0_t34 v375), ∀ (k0_h4 : k0_cond4 v1 k0_t34 = 1#1), ∀ a, (k0_off1169 v375) a + S1x1728x128.size a ≤ S1280x1728x128.size a := fun v1 k0_t34 v375 k0_hw26 k0_h4 => k0_hw26.1 k0_h4
theorem k0_off1169_wordsfp8e4m3 : ∀ (v1 : BitVec 32) (k0_t34 : Fin (k0_t34_loop v1).trips) (v375 : BitVec 32) (k0_hw26 : k0_chk26 v1 k0_t34 v375), ∀ (k0_h4 : k0_cond4 v1 k0_t34 = 1#1), (Rect.unit (s := S1280x1728x128) (k0_off1169 v375) S1x1728x128.size (k0_off1169_inb v1 k0_t34 v375 k0_hw26 k0_h4)).WholeWords (EltTy.packing .fp8e4m3) := fun v1 k0_t34 v375 k0_hw26 k0_h4 => k0_hw26.2 k0_h4 (k0_off1169_inb v1 k0_t34 v375 k0_hw26 k0_h4)

@[reducible] def k0_t42_loop (v328 : BitVec 32) (v357 : BitVec 32) : Scf.Loop 32 :=
  let c0_i32_474 : BitVec 32 := 0#32
  let c8_i32_472 : BitVec 32 := 8#32
  let c0_i32_471 : BitVec 32 := 0#32
  let c2048_i32_467 : BitVec 32 := 2048#32
  let c0_i32_466 : BitVec 32 := 0#32
  let v358 : BitVec 32 := Scalar.maxsi c0_i32_466 v357
  let v359 : BitVec 32 := Scalar.minsi c2048_i32_467 v358
  let c15_i32_468 : BitVec 32 := 15#32
  let v360 : BitVec 32 := Scalar.addi v359 c15_i32_468
  let c16_i32_469 : BitVec 32 := 16#32
  let v361 : BitVec 32 := Scalar.divsi v360 c16_i32_469
  let c16_i32_460 : BitVec 32 := 16#32
  let c0_i32_461 : BitVec 32 := 0#32
  let v346 : BitVec 1 := Scalar.cmpi .eq c16_i32_460 c0_i32_461
  let c1_i32_462 : BitVec 32 := 1#32
  let v347 : BitVec 32 := Scalar.select v346 c1_i32_462 c16_i32_460
  let v348 : BitVec 32 := Scalar.remsi v328 v347
  let c0_i32_464 : BitVec 32 := 0#32
  let v350 : BitVec 1 := Scalar.cmpi .slt v348 c0_i32_464
  let c0_i32_465 : BitVec 32 := 0#32
  let v351 : BitVec 1 := Scalar.cmpi .slt v347 c0_i32_465
  let v352 : BitVec 1 := Scalar.xori v350 v351
  let c0_i32_463 : BitVec 32 := 0#32
  let v349 : BitVec 1 := Scalar.cmpi .ne v348 c0_i32_463
  let v353 : BitVec 1 := Scalar.andi v352 v349
  let v354 : BitVec 32 := Scalar.addi v348 v347
  let v355 : BitVec 32 := Scalar.select v353 v354 v348
  let c8_i32_470 : BitVec 32 := 8#32
  let v362 : BitVec 32 := Scalar.muli v355 c8_i32_470
  let v363 : BitVec 32 := Scalar.subi v361 v362
  let v364 : BitVec 32 := Scalar.maxsi c0_i32_471 v363
  let v365 : BitVec 32 := Scalar.minsi c8_i32_472 v364
  let v366 : BitVec 32 := Scalar.subi v365 c0_i32_474
  let c1_i32_475 : BitVec 32 := 1#32
  let v368 : BitVec 32 := Scalar.divsi v366 c1_i32_475
  let v369 : BitVec 32 := Scalar.muli v368 c1_i32_475
  let v370 : BitVec 32 := Scalar.addi c0_i32_474 v369
  let v367 : BitVec 32 := Scalar.addi c0_i32_474 v366
  let c1_i32_477 : BitVec 32 := 1#32
  ⟨v370, v367, c1_i32_477⟩
def k0_off1170 (v328 : BitVec 32) (v357 : BitVec 32) (k0_t42 : Fin (k0_t42_loop v328 v357).trips) : Fin 2 → Nat :=
  let c0_i32_454 : BitVec 32 := 0#32
  let v330 : BitVec 1 := Scalar.cmpi .sgt v328 c0_i32_454
  let v331 : BitVec 32 := Scalar.extui v330
  let c0_i32_455 : BitVec 32 := 0#32
  let v332 : BitVec 1 := Scalar.cmpi .slt v328 c0_i32_455
  let v333 : BitVec 32 := Scalar.extui v332
  let v334 : BitVec 32 := Scalar.subi v331 v333
  let c16_i32_453 : BitVec 32 := 16#32
  let c0_i32_456 : BitVec 32 := 0#32
  let v335 : BitVec 1 := Scalar.cmpi .sgt c16_i32_453 c0_i32_456
  let v336 : BitVec 32 := Scalar.extui v335
  let c0_i32_457 : BitVec 32 := 0#32
  let v337 : BitVec 1 := Scalar.cmpi .slt c16_i32_453 c0_i32_457
  let v338 : BitVec 32 := Scalar.extui v337
  let v339 : BitVec 32 := Scalar.subi v336 v338
  let v340 : BitVec 1 := Scalar.cmpi .ne v334 v339
  let v341 : BitVec 32 := Scalar.remsi v328 c16_i32_453
  let c0_i32_458 : BitVec 32 := 0#32
  let v342 : BitVec 1 := Scalar.cmpi .ne v341 c0_i32_458
  let v343 : BitVec 1 := Scalar.andi v340 v342
  let v329 : BitVec 32 := Scalar.divsi v328 c16_i32_453
  let c1_i32_459 : BitVec 32 := 1#32
  let v344 : BitVec 32 := Scalar.subi v329 c1_i32_459
  let v345 : BitVec 32 := Scalar.select v343 v344 v329
  let v373 : Index := Scalar.indexCast v345
  let c16_i32_460 : BitVec 32 := 16#32
  let c0_i32_461 : BitVec 32 := 0#32
  let v346 : BitVec 1 := Scalar.cmpi .eq c16_i32_460 c0_i32_461
  let c1_i32_462 : BitVec 32 := 1#32
  let v347 : BitVec 32 := Scalar.select v346 c1_i32_462 c16_i32_460
  let v348 : BitVec 32 := Scalar.remsi v328 v347
  let c0_i32_464 : BitVec 32 := 0#32
  let v350 : BitVec 1 := Scalar.cmpi .slt v348 c0_i32_464
  let c0_i32_465 : BitVec 32 := 0#32
  let v351 : BitVec 1 := Scalar.cmpi .slt v347 c0_i32_465
  let v352 : BitVec 1 := Scalar.xori v350 v351
  let c0_i32_463 : BitVec 32 := 0#32
  let v349 : BitVec 1 := Scalar.cmpi .ne v348 c0_i32_463
  let v353 : BitVec 1 := Scalar.andi v352 v349
  let v354 : BitVec 32 := Scalar.addi v348 v347
  let v355 : BitVec 32 := Scalar.select v353 v354 v348
  let c8_i32_478 : BitVec 32 := 8#32
  let v371 : BitVec 32 := Scalar.muli v355 c8_i32_478
  let c0_i32_474 : BitVec 32 := 0#32
  let c8_i32_472 : BitVec 32 := 8#32
  let c0_i32_471 : BitVec 32 := 0#32
  let c2048_i32_467 : BitVec 32 := 2048#32
  let c0_i32_466 : BitVec 32 := 0#32
  let v358 : BitVec 32 := Scalar.maxsi c0_i32_466 v357
  let v359 : BitVec 32 := Scalar.minsi c2048_i32_467 v358
  let c15_i32_468 : BitVec 32 := 15#32
  let v360 : BitVec 32 := Scalar.addi v359 c15_i32_468
  let c16_i32_469 : BitVec 32 := 16#32
  let v361 : BitVec 32 := Scalar.divsi v360 c16_i32_469
  let c8_i32_470 : BitVec 32 := 8#32
  let v362 : BitVec 32 := Scalar.muli v355 c8_i32_470
  let v363 : BitVec 32 := Scalar.subi v361 v362
  let v364 : BitVec 32 := Scalar.maxsi c0_i32_471 v363
  let v365 : BitVec 32 := Scalar.minsi c8_i32_472 v364
  let v366 : BitVec 32 := Scalar.subi v365 c0_i32_474
  let c1_i32_475 : BitVec 32 := 1#32
  let v368 : BitVec 32 := Scalar.divsi v366 c1_i32_475
  let v369 : BitVec 32 := Scalar.muli v368 c1_i32_475
  let v370 : BitVec 32 := Scalar.addi c0_i32_474 v369
  let c1_i32_477 : BitVec 32 := 1#32
  let arg19 : BitVec 32 := Scf.iv v370 c1_i32_477 k0_t42
  let v372 : BitVec 32 := Scalar.addi v371 arg19
  let v374 : Index := Scalar.indexCast v372
  ![v373.toNat, v374.toNat]

variable {F : FTy → Type} [BitOps F]

def k0_off1171 (v1 : BitVec 32) (k0_t34 : Fin (k0_t34_loop v1).trips) : Fin 2 → Nat :=
  let c0_i32_480 : BitVec 32 := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  ![0, v226.toNat]
def k0_off1172 (v1 : BitVec 32) (k0_t34 : Fin (k0_t34_loop v1).trips) (v328 : BitVec 32) (v357 : BitVec 32) (k0_t42 : Fin (k0_t42_loop v328 v357).trips) : Fin 5 → Nat :=
  let c0_i32_479 : BitVec 32 := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let c0_i32_474 : BitVec 32 := 0#32
  let c8_i32_472 : BitVec 32 := 8#32
  let c0_i32_471 : BitVec 32 := 0#32
  let c2048_i32_467 : BitVec 32 := 2048#32
  let c0_i32_466 : BitVec 32 := 0#32
  let v358 : BitVec 32 := Scalar.maxsi c0_i32_466 v357
  let v359 : BitVec 32 := Scalar.minsi c2048_i32_467 v358
  let c15_i32_468 : BitVec 32 := 15#32
  let v360 : BitVec 32 := Scalar.addi v359 c15_i32_468
  let c16_i32_469 : BitVec 32 := 16#32
  let v361 : BitVec 32 := Scalar.divsi v360 c16_i32_469
  let c16_i32_460 : BitVec 32 := 16#32
  let c0_i32_461 : BitVec 32 := 0#32
  let v346 : BitVec 1 := Scalar.cmpi .eq c16_i32_460 c0_i32_461
  let c1_i32_462 : BitVec 32 := 1#32
  let v347 : BitVec 32 := Scalar.select v346 c1_i32_462 c16_i32_460
  let v348 : BitVec 32 := Scalar.remsi v328 v347
  let c0_i32_464 : BitVec 32 := 0#32
  let v350 : BitVec 1 := Scalar.cmpi .slt v348 c0_i32_464
  let c0_i32_465 : BitVec 32 := 0#32
  let v351 : BitVec 1 := Scalar.cmpi .slt v347 c0_i32_465
  let v352 : BitVec 1 := Scalar.xori v350 v351
  let c0_i32_463 : BitVec 32 := 0#32
  let v349 : BitVec 1 := Scalar.cmpi .ne v348 c0_i32_463
  let v353 : BitVec 1 := Scalar.andi v352 v349
  let v354 : BitVec 32 := Scalar.addi v348 v347
  let v355 : BitVec 32 := Scalar.select v353 v354 v348
  let c8_i32_470 : BitVec 32 := 8#32
  let v362 : BitVec 32 := Scalar.muli v355 c8_i32_470
  let v363 : BitVec 32 := Scalar.subi v361 v362
  let v364 : BitVec 32 := Scalar.maxsi c0_i32_471 v363
  let v365 : BitVec 32 := Scalar.minsi c8_i32_472 v364
  let v366 : BitVec 32 := Scalar.subi v365 c0_i32_474
  let c1_i32_475 : BitVec 32 := 1#32
  let v368 : BitVec 32 := Scalar.divsi v366 c1_i32_475
  let v369 : BitVec 32 := Scalar.muli v368 c1_i32_475
  let v370 : BitVec 32 := Scalar.addi c0_i32_474 v369
  let c1_i32_477 : BitVec 32 := 1#32
  let arg19 : BitVec 32 := Scf.iv v370 c1_i32_477 k0_t42
  let c0_i32_481 : BitVec 32 := 0#32
  let c0_i32_482 : BitVec 32 := 0#32
  ![0, v226.toNat, arg19.toNat, 0, 0]
def k0_off1173 (v375 : BitVec 32) : Fin 3 → Nat :=
  let c0_i32_483 : BitVec 32 := 0#32
  let c0_i32_484 : BitVec 32 := 0#32
  ![v375.toNat, 0, 0]

def k0_chk27 (v1 : BitVec 32) (k0_t34 : Fin (k0_t34_loop v1).trips) (v375 : BitVec 32) : Prop :=
  (∀ (k0_h4 : k0_cond4 v1 k0_t34 = 1#1), ∀ a, (k0_off1173 v375) a + S1x1728x128.size a ≤ S1280x1728x128.size a) ∧
  (∀ (k0_h4 : k0_cond4 v1 k0_t34 = 1#1), ∀ (hinb : ∀ a, (k0_off1173 v375) a + S1x1728x128.size a ≤ S1280x1728x128.size a), (Rect.unit (s := S1280x1728x128) (k0_off1173 v375) S1x1728x128.size hinb).WholeWords (EltTy.packing .fp8e4m3))
theorem k0_off1173_inb : ∀ (v1 : BitVec 32) (k0_t34 : Fin (k0_t34_loop v1).trips) (v375 : BitVec 32) (k0_hw27 : k0_chk27 v1 k0_t34 v375), ∀ (k0_h4 : k0_cond4 v1 k0_t34 = 1#1), ∀ a, (k0_off1173 v375) a + S1x1728x128.size a ≤ S1280x1728x128.size a := fun v1 k0_t34 v375 k0_hw27 k0_h4 => k0_hw27.1 k0_h4
theorem k0_off1173_wordsfp8e4m3 : ∀ (v1 : BitVec 32) (k0_t34 : Fin (k0_t34_loop v1).trips) (v375 : BitVec 32) (k0_hw27 : k0_chk27 v1 k0_t34 v375), ∀ (k0_h4 : k0_cond4 v1 k0_t34 = 1#1), (Rect.unit (s := S1280x1728x128) (k0_off1173 v375) S1x1728x128.size (k0_off1173_inb v1 k0_t34 v375 k0_hw27 k0_h4)).WholeWords (EltTy.packing .fp8e4m3) := fun v1 k0_t34 v375 k0_hw27 k0_h4 => k0_hw27.2 k0_h4 (k0_off1173_inb v1 k0_t34 v375 k0_hw27 k0_h4)

def k0_chk25 (v1 : BitVec 32) (k0_t34 : Fin (k0_t34_loop v1).trips) (v328 : BitVec 32) (v357 : BitVec 32) : Prop :=
  (∀ (k0_h4 : k0_cond4 v1 k0_t34 = 1#1), (k0_t41_loop v328 v357).OK) ∧
  (∀ k0_t41 : Fin (k0_t41_loop v328 v357).trips, ∀ (k0_h4 : k0_cond4 v1 k0_t34 = 1#1), ∀ a, (k0_off1166 v328 v357 k0_t41) a + S1x1.size a ≤ S8x128.size a) ∧
  (∀ k0_t41 : Fin (k0_t41_loop v328 v357).trips, ∀ (k0_h4 : k0_cond4 v1 k0_t34 = 1#1), ∀ a, (k0_off1167 v1 k0_t34) a + S1x1.size a ≤ S2x2.size a) ∧
  (∀ k0_t41 : Fin (k0_t41_loop v328 v357).trips, ∀ (k0_h4 : k0_cond4 v1 k0_t34 = 1#1), ∀ a, (k0_off1168 v1 k0_t34 v328 v357 k0_t41) a + S1x1x1x1728x128.size a ≤ S2x2x8x1728x128.size a) ∧
  (∀ k0_t41 : Fin (k0_t41_loop v328 v357).trips, ∀ (k0_h4 : k0_cond4 v1 k0_t34 = 1#1), ∀ (hinb : ∀ a, (k0_off1168 v1 k0_t34 v328 v357 k0_t41) a + S1x1x1x1728x128.size a ≤ S2x2x8x1728x128.size a), (Rect.unit (s := S2x2x8x1728x128) (k0_off1168 v1 k0_t34 v328 v357 k0_t41) S1x1x1x1728x128.size hinb).WholeWords (EltTy.packing .fp8e4m3)) ∧
  (∀ (k0_h4 : k0_cond4 v1 k0_t34 = 1#1), (k0_t42_loop v328 v357).OK) ∧
  (∀ k0_t42 : Fin (k0_t42_loop v328 v357).trips, ∀ (k0_h4 : k0_cond4 v1 k0_t34 = 1#1), ∀ a, (k0_off1170 v328 v357 k0_t42) a + S1x1.size a ≤ S8x128.size a) ∧
  (∀ k0_t42 : Fin (k0_t42_loop v328 v357).trips, ∀ (k0_h4 : k0_cond4 v1 k0_t34 = 1#1), ∀ a, (k0_off1171 v1 k0_t34) a + S1x1.size a ≤ S2x2.size a) ∧
  (∀ k0_t42 : Fin (k0_t42_loop v328 v357).trips, ∀ (k0_h4 : k0_cond4 v1 k0_t34 = 1#1), ∀ a, (k0_off1172 v1 k0_t34 v328 v357 k0_t42) a + S1x1x1x1728x128.size a ≤ S2x2x8x1728x128.size a) ∧
  (∀ k0_t42 : Fin (k0_t42_loop v328 v357).trips, ∀ (k0_h4 : k0_cond4 v1 k0_t34 = 1#1), ∀ (hinb : ∀ a, (k0_off1172 v1 k0_t34 v328 v357 k0_t42) a + S1x1x1x1728x128.size a ≤ S2x2x8x1728x128.size a), (Rect.unit (s := S2x2x8x1728x128) (k0_off1172 v1 k0_t34 v328 v357 k0_t42) S1x1x1x1728x128.size hinb).WholeWords (EltTy.packing .fp8e4m3))
theorem k0_t41_ok : ∀ (v1 : BitVec 32) (k0_t34 : Fin (k0_t34_loop v1).trips) (v328 : BitVec 32) (v357 : BitVec 32) (k0_hw25 : k0_chk25 v1 k0_t34 v328 v357), ∀ (k0_h4 : k0_cond4 v1 k0_t34 = 1#1), (k0_t41_loop v328 v357).OK := fun v1 k0_t34 v328 v357 k0_hw25 k0_h4 => k0_hw25.1 k0_h4
theorem k0_off1166_inb : ∀ (v1 : BitVec 32) (k0_t34 : Fin (k0_t34_loop v1).trips) (v328 : BitVec 32) (v357 : BitVec 32) (k0_hw25 : k0_chk25 v1 k0_t34 v328 v357) (k0_t41 : Fin (k0_t41_loop v328 v357).trips), ∀ (k0_h4 : k0_cond4 v1 k0_t34 = 1#1), ∀ a, (k0_off1166 v328 v357 k0_t41) a + S1x1.size a ≤ S8x128.size a := fun v1 k0_t34 v328 v357 k0_hw25 k0_t41 k0_h4 => k0_hw25.2.1 k0_t41 k0_h4
theorem k0_off1167_inb : ∀ (v1 : BitVec 32) (k0_t34 : Fin (k0_t34_loop v1).trips) (v328 : BitVec 32) (v357 : BitVec 32) (k0_hw25 : k0_chk25 v1 k0_t34 v328 v357) (k0_t41 : Fin (k0_t41_loop v328 v357).trips), ∀ (k0_h4 : k0_cond4 v1 k0_t34 = 1#1), ∀ a, (k0_off1167 v1 k0_t34) a + S1x1.size a ≤ S2x2.size a := fun v1 k0_t34 v328 v357 k0_hw25 k0_t41 k0_h4 => k0_hw25.2.2.1 k0_t41 k0_h4
theorem k0_off1168_inb : ∀ (v1 : BitVec 32) (k0_t34 : Fin (k0_t34_loop v1).trips) (v328 : BitVec 32) (v357 : BitVec 32) (k0_hw25 : k0_chk25 v1 k0_t34 v328 v357) (k0_t41 : Fin (k0_t41_loop v328 v357).trips), ∀ (k0_h4 : k0_cond4 v1 k0_t34 = 1#1), ∀ a, (k0_off1168 v1 k0_t34 v328 v357 k0_t41) a + S1x1x1x1728x128.size a ≤ S2x2x8x1728x128.size a := fun v1 k0_t34 v328 v357 k0_hw25 k0_t41 k0_h4 => k0_hw25.2.2.2.1 k0_t41 k0_h4
theorem k0_off1168_wordsfp8e4m3 : ∀ (v1 : BitVec 32) (k0_t34 : Fin (k0_t34_loop v1).trips) (v328 : BitVec 32) (v357 : BitVec 32) (k0_hw25 : k0_chk25 v1 k0_t34 v328 v357) (k0_t41 : Fin (k0_t41_loop v328 v357).trips), ∀ (k0_h4 : k0_cond4 v1 k0_t34 = 1#1), (Rect.unit (s := S2x2x8x1728x128) (k0_off1168 v1 k0_t34 v328 v357 k0_t41) S1x1x1x1728x128.size (k0_off1168_inb v1 k0_t34 v328 v357 k0_hw25 k0_t41 k0_h4)).WholeWords (EltTy.packing .fp8e4m3) := fun v1 k0_t34 v328 v357 k0_hw25 k0_t41 k0_h4 => k0_hw25.2.2.2.2.1 k0_t41 k0_h4 (k0_off1168_inb v1 k0_t34 v328 v357 k0_hw25 k0_t41 k0_h4)
theorem k0_t42_ok : ∀ (v1 : BitVec 32) (k0_t34 : Fin (k0_t34_loop v1).trips) (v328 : BitVec 32) (v357 : BitVec 32) (k0_hw25 : k0_chk25 v1 k0_t34 v328 v357), ∀ (k0_h4 : k0_cond4 v1 k0_t34 = 1#1), (k0_t42_loop v328 v357).OK := fun v1 k0_t34 v328 v357 k0_hw25 k0_h4 => k0_hw25.2.2.2.2.2.1 k0_h4
theorem k0_off1170_inb : ∀ (v1 : BitVec 32) (k0_t34 : Fin (k0_t34_loop v1).trips) (v328 : BitVec 32) (v357 : BitVec 32) (k0_hw25 : k0_chk25 v1 k0_t34 v328 v357) (k0_t42 : Fin (k0_t42_loop v328 v357).trips), ∀ (k0_h4 : k0_cond4 v1 k0_t34 = 1#1), ∀ a, (k0_off1170 v328 v357 k0_t42) a + S1x1.size a ≤ S8x128.size a := fun v1 k0_t34 v328 v357 k0_hw25 k0_t42 k0_h4 => k0_hw25.2.2.2.2.2.2.1 k0_t42 k0_h4
theorem k0_off1171_inb : ∀ (v1 : BitVec 32) (k0_t34 : Fin (k0_t34_loop v1).trips) (v328 : BitVec 32) (v357 : BitVec 32) (k0_hw25 : k0_chk25 v1 k0_t34 v328 v357) (k0_t42 : Fin (k0_t42_loop v328 v357).trips), ∀ (k0_h4 : k0_cond4 v1 k0_t34 = 1#1), ∀ a, (k0_off1171 v1 k0_t34) a + S1x1.size a ≤ S2x2.size a := fun v1 k0_t34 v328 v357 k0_hw25 k0_t42 k0_h4 => k0_hw25.2.2.2.2.2.2.2.1 k0_t42 k0_h4
theorem k0_off1172_inb : ∀ (v1 : BitVec 32) (k0_t34 : Fin (k0_t34_loop v1).trips) (v328 : BitVec 32) (v357 : BitVec 32) (k0_hw25 : k0_chk25 v1 k0_t34 v328 v357) (k0_t42 : Fin (k0_t42_loop v328 v357).trips), ∀ (k0_h4 : k0_cond4 v1 k0_t34 = 1#1), ∀ a, (k0_off1172 v1 k0_t34 v328 v357 k0_t42) a + S1x1x1x1728x128.size a ≤ S2x2x8x1728x128.size a := fun v1 k0_t34 v328 v357 k0_hw25 k0_t42 k0_h4 => k0_hw25.2.2.2.2.2.2.2.2.1 k0_t42 k0_h4
theorem k0_off1172_wordsfp8e4m3 : ∀ (v1 : BitVec 32) (k0_t34 : Fin (k0_t34_loop v1).trips) (v328 : BitVec 32) (v357 : BitVec 32) (k0_hw25 : k0_chk25 v1 k0_t34 v328 v357) (k0_t42 : Fin (k0_t42_loop v328 v357).trips), ∀ (k0_h4 : k0_cond4 v1 k0_t34 = 1#1), (Rect.unit (s := S2x2x8x1728x128) (k0_off1172 v1 k0_t34 v328 v357 k0_t42) S1x1x1x1728x128.size (k0_off1172_inb v1 k0_t34 v328 v357 k0_hw25 k0_t42 k0_h4)).WholeWords (EltTy.packing .fp8e4m3) := fun v1 k0_t34 v328 v357 k0_hw25 k0_t42 k0_h4 => k0_hw25.2.2.2.2.2.2.2.2.2 k0_t42 k0_h4 (k0_off1172_inb v1 k0_t34 v328 v357 k0_hw25 k0_t42 k0_h4)

def k0_mult10 (v228 : BitVec 32) : BitVec 32 :=
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c128_i32_417 : BitVec 32 := 128#32
  let v288 : BitVec 32 := Scalar.muli v255 c128_i32_417
  v288
def k0_off1174 (v1 : BitVec 32) (k0_t34 : Fin (k0_t34_loop v1).trips) : Fin 2 → Nat :=
  let c0_i32_419 : BitVec 32 := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  ![0, v226.toNat]
def k0_off1175 (v228 : BitVec 32) : Fin 4 → Nat :=
  let c0_i32_381 : BitVec 32 := 0#32
  let v230 : BitVec 1 := Scalar.cmpi .sgt v228 c0_i32_381
  let v231 : BitVec 32 := Scalar.extui v230
  let c0_i32_382 : BitVec 32 := 0#32
  let v232 : BitVec 1 := Scalar.cmpi .slt v228 c0_i32_382
  let v233 : BitVec 32 := Scalar.extui v232
  let v234 : BitVec 32 := Scalar.subi v231 v233
  let c16_i32 : BitVec 32 := 16#32
  let c0_i32_383 : BitVec 32 := 0#32
  let v235 : BitVec 1 := Scalar.cmpi .sgt c16_i32 c0_i32_383
  let v236 : BitVec 32 := Scalar.extui v235
  let c0_i32_384 : BitVec 32 := 0#32
  let v237 : BitVec 1 := Scalar.cmpi .slt c16_i32 c0_i32_384
  let v238 : BitVec 32 := Scalar.extui v237
  let v239 : BitVec 32 := Scalar.subi v236 v238
  let v240 : BitVec 1 := Scalar.cmpi .ne v234 v239
  let v241 : BitVec 32 := Scalar.remsi v228 c16_i32
  let c0_i32_385 : BitVec 32 := 0#32
  let v242 : BitVec 1 := Scalar.cmpi .ne v241 c0_i32_385
  let v243 : BitVec 1 := Scalar.andi v240 v242
  let v229 : BitVec 32 := Scalar.divsi v228 c16_i32
  let c1_i32_386 : BitVec 32 := 1#32
  let v244 : BitVec 32 := Scalar.subi v229 c1_i32_386
  let v245 : BitVec 32 := Scalar.select v243 v244 v229
  let c0_i32_420 : BitVec 32 := 0#32
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c128_i32_417 : BitVec 32 := 128#32
  let v288 : BitVec 32 := Scalar.muli v255 c128_i32_417
  let v289 : BitVec 32 := v288
  let c0_i32_421 : BitVec 32 := 0#32
  ![v245.toNat, 0, v289.toNat, 0]
def k0_off1176 (v1 : BitVec 32) (k0_t34 : Fin (k0_t34_loop v1).trips) : Fin 5 → Nat :=
  let c0_i32_418 : BitVec 32 := 0#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let c0_i32_422 : BitVec 32 := 0#32
  let c0_i32_423 : BitVec 32 := 0#32
  let c0_i32_424 : BitVec 32 := 0#32
  ![0, v226.toNat, 0, 0, 0]
@[reducible] def k0_t43_loop (v228 : BitVec 32) (v257 : BitVec 32) : Scf.Loop 32 :=
  let c0_i32_426 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v296 : BitVec 32 := Scalar.subi v265 c0_i32_426
  let c1_i32_427 : BitVec 32 := 1#32
  let v298 : BitVec 32 := Scalar.divsi v296 c1_i32_427
  let v299 : BitVec 32 := Scalar.muli v298 c1_i32_427
  let v300 : BitVec 32 := Scalar.addi c0_i32_426 v299
  let c1_i32_428 : BitVec 32 := 1#32
  ⟨c0_i32_426, v300, c1_i32_428⟩
def k0_off1177 (v1 : BitVec 32) (k0_t34 : Fin (k0_t34_loop v1).trips) : Fin 2 → Nat :=
  let c1_i32_454 : BitVec 32 := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  ![1, v226.toNat]
def k0_off1178 (v1 : BitVec 32) (k0_t34 : Fin (k0_t34_loop v1).trips) (v228 : BitVec 32) (v257 : BitVec 32) (k0_t43 : Fin (k0_t43_loop v228 v257).trips) : Fin 5 → Nat :=
  let c1_i32_453 : BitVec 32 := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let c0_i32_426 : BitVec 32 := 0#32
  let c1_i32_428 : BitVec 32 := 1#32
  let arg19 : BitVec 32 := Scf.iv c0_i32_426 c1_i32_428 k0_t43
  let c0_i32_455 : BitVec 32 := 0#32
  let c0_i32_456 : BitVec 32 := 0#32
  ![1, v226.toNat, arg19.toNat, 0, 0]
@[reducible] def k0_t44_loop (v228 : BitVec 32) (v257 : BitVec 32) : Scf.Loop 32 :=
  let c0_i32_426 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v296 : BitVec 32 := Scalar.subi v265 c0_i32_426
  let c1_i32_427 : BitVec 32 := 1#32
  let v298 : BitVec 32 := Scalar.divsi v296 c1_i32_427
  let v299 : BitVec 32 := Scalar.muli v298 c1_i32_427
  let v300 : BitVec 32 := Scalar.addi c0_i32_426 v299
  let v297 : BitVec 32 := Scalar.addi c0_i32_426 v296
  let c1_i32_429 : BitVec 32 := 1#32
  ⟨v300, v297, c1_i32_429⟩
def k0_off1179 (v1 : BitVec 32) (k0_t34 : Fin (k0_t34_loop v1).trips) : Fin 2 → Nat :=
  let c1_i32_454 : BitVec 32 := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  ![1, v226.toNat]
def k0_off1180 (v1 : BitVec 32) (k0_t34 : Fin (k0_t34_loop v1).trips) (v228 : BitVec 32) (v257 : BitVec 32) (k0_t44 : Fin (k0_t44_loop v228 v257).trips) : Fin 5 → Nat :=
  let c1_i32_453 : BitVec 32 := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let c0_i32_426 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v296 : BitVec 32 := Scalar.subi v265 c0_i32_426
  let c1_i32_427 : BitVec 32 := 1#32
  let v298 : BitVec 32 := Scalar.divsi v296 c1_i32_427
  let v299 : BitVec 32 := Scalar.muli v298 c1_i32_427
  let v300 : BitVec 32 := Scalar.addi c0_i32_426 v299
  let c1_i32_429 : BitVec 32 := 1#32
  let arg19 : BitVec 32 := Scf.iv v300 c1_i32_429 k0_t44
  let c0_i32_455 : BitVec 32 := 0#32
  let c0_i32_456 : BitVec 32 := 0#32
  ![1, v226.toNat, arg19.toNat, 0, 0]
def k0_cond5 (v1 : BitVec 32) (k0_t34 : Fin (k0_t34_loop v1).trips) : BitVec 1 :=
  let c0_i32_367 : BitVec 32 := 0#32
  let c1_i32_369 : BitVec 32 := 1#32
  let arg18 : BitVec 32 := Scf.iv c0_i32_367 c1_i32_369 k0_t34
  let c2_i32_430 : BitVec 32 := 2#32
  let v301 : BitVec 1 := Scalar.cmpi .sge arg18 c2_i32_430
  let v302 : BitVec 32 := Scalar.extui v301
  let c0_i32_431 : BitVec 32 := 0#32
  let v303 : BitVec 1 := Scalar.cmpi .ne v302 c0_i32_431
  v303

def k0_mult11 : BitVec 32 :=
  let c0_i32_452 : BitVec 32 := 0#32
  c0_i32_452
def k0_off1181 (v1 : BitVec 32) (k0_t34 : Fin (k0_t34_loop v1).trips) : Fin 2 → Nat :=
  let c1_i32_455 : BitVec 32 := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  ![1, v226.toNat]
def k0_off1182 (v1 : BitVec 32) (k0_t34 : Fin (k0_t34_loop v1).trips) : Fin 5 → Nat :=
  let c1_i32_453 : BitVec 32 := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let c0_i32_458 : BitVec 32 := 0#32
  let c0_i32_459 : BitVec 32 := 0#32
  let c0_i32_460 : BitVec 32 := 0#32
  ![1, v226.toNat, 0, 0, 0]
@[reducible] def k0_t45_loop (v228 : BitVec 32) (v257 : BitVec 32) : Scf.Loop 32 :=
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_435 : BitVec 32 := 1#32
  ⟨c0_i32_433, v308, c1_i32_435⟩
def k0_off1183 (v228 : BitVec 32) (v257 : BitVec 32) (k0_t45 : Fin (k0_t45_loop v228 v257).trips) : Fin 2 → Nat :=
  let c0_i32_381 : BitVec 32 := 0#32
  let v230 : BitVec 1 := Scalar.cmpi .sgt v228 c0_i32_381
  let v231 : BitVec 32 := Scalar.extui v230
  let c0_i32_382 : BitVec 32 := 0#32
  let v232 : BitVec 1 := Scalar.cmpi .slt v228 c0_i32_382
  let v233 : BitVec 32 := Scalar.extui v232
  let v234 : BitVec 32 := Scalar.subi v231 v233
  let c16_i32 : BitVec 32 := 16#32
  let c0_i32_383 : BitVec 32 := 0#32
  let v235 : BitVec 1 := Scalar.cmpi .sgt c16_i32 c0_i32_383
  let v236 : BitVec 32 := Scalar.extui v235
  let c0_i32_384 : BitVec 32 := 0#32
  let v237 : BitVec 1 := Scalar.cmpi .slt c16_i32 c0_i32_384
  let v238 : BitVec 32 := Scalar.extui v237
  let v239 : BitVec 32 := Scalar.subi v236 v238
  let v240 : BitVec 1 := Scalar.cmpi .ne v234 v239
  let v241 : BitVec 32 := Scalar.remsi v228 c16_i32
  let c0_i32_385 : BitVec 32 := 0#32
  let v242 : BitVec 1 := Scalar.cmpi .ne v241 c0_i32_385
  let v243 : BitVec 1 := Scalar.andi v240 v242
  let v229 : BitVec 32 := Scalar.divsi v228 c16_i32
  let c1_i32_386 : BitVec 32 := 1#32
  let v244 : BitVec 32 := Scalar.subi v229 c1_i32_386
  let v245 : BitVec 32 := Scalar.select v243 v244 v229
  let v328 : Index := Scalar.indexCast v245
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_452 : BitVec 32 := 8#32
  let v326 : BitVec 32 := Scalar.muli v255 c8_i32_452
  let c0_i32_433 : BitVec 32 := 0#32
  let c1_i32_435 : BitVec 32 := 1#32
  let arg19 : BitVec 32 := Scf.iv c0_i32_433 c1_i32_435 k0_t45
  let v327 : BitVec 32 := Scalar.addi v326 arg19
  let v329 : Index := Scalar.indexCast v327
  ![v328.toNat, v329.toNat]
def k0_off1184 (v228 : BitVec 32) : Fin 1 → Nat :=
  let c0_i32_381 : BitVec 32 := 0#32
  let v230 : BitVec 1 := Scalar.cmpi .sgt v228 c0_i32_381
  let v231 : BitVec 32 := Scalar.extui v230
  let c0_i32_382 : BitVec 32 := 0#32
  let v232 : BitVec 1 := Scalar.cmpi .slt v228 c0_i32_382
  let v233 : BitVec 32 := Scalar.extui v232
  let v234 : BitVec 32 := Scalar.subi v231 v233
  let c16_i32 : BitVec 32 := 16#32
  let c0_i32_383 : BitVec 32 := 0#32
  let v235 : BitVec 1 := Scalar.cmpi .sgt c16_i32 c0_i32_383
  let v236 : BitVec 32 := Scalar.extui v235
  let c0_i32_384 : BitVec 32 := 0#32
  let v237 : BitVec 1 := Scalar.cmpi .slt c16_i32 c0_i32_384
  let v238 : BitVec 32 := Scalar.extui v237
  let v239 : BitVec 32 := Scalar.subi v236 v238
  let v240 : BitVec 1 := Scalar.cmpi .ne v234 v239
  let v241 : BitVec 32 := Scalar.remsi v228 c16_i32
  let c0_i32_385 : BitVec 32 := 0#32
  let v242 : BitVec 1 := Scalar.cmpi .ne v241 c0_i32_385
  let v243 : BitVec 1 := Scalar.andi v240 v242
  let v229 : BitVec 32 := Scalar.divsi v228 c16_i32
  let c1_i32_386 : BitVec 32 := 1#32
  let v244 : BitVec 32 := Scalar.subi v229 c1_i32_386
  let v245 : BitVec 32 := Scalar.select v243 v244 v229
  let v359 : Index := Scalar.indexCast v245
  ![v359.toNat]
def k0_mult12 (v228 : BitVec 32) (v257 : BitVec 32) (k0_t45 : Fin (k0_t45_loop v228 v257).trips) : BitVec 32 :=
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  v381
def k0_off1185 (v1 : BitVec 32) (k0_t34 : Fin (k0_t34_loop v1).trips) (v228 : BitVec 32) (v257 : BitVec 32) (k0_t45 : Fin (k0_t45_loop v228 v257).trips) : Fin 5 → Nat :=
  let c1 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v383 : Index := Scalar.indexCast v226
  let c0_i32_433 : BitVec 32 := 0#32
  let c1_i32_435 : BitVec 32 := 1#32
  let arg19 : BitVec 32 := Scf.iv c0_i32_433 c1_i32_435 k0_t45
  let v384 : Index := Scalar.indexCast arg19
  let c0 : Index := 0#32
  let c0_474 : Index := 0#32
  ![1, v383.toNat, v384.toNat, 0, 0]
def k0_off1186 (v330 : BitVec 32) : Fin 5 → Nat :=
  let c1_475 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v388 : Index := Scalar.indexCast v347
  let c0_476 : Index := 0#32
  let c0_477 : Index := 0#32
  let c0_478 : Index := 0#32
  ![1, v388.toNat, 0, 0, 0]

def k0_off1187 (v1 : BitVec 32) (k0_t34 : Fin (k0_t34_loop v1).trips) (v228 : BitVec 32) (v257 : BitVec 32) (k0_t45 : Fin (k0_t45_loop v228 v257).trips) : Fin 5 → Nat :=
  let c1_481 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v405 : Index := Scalar.indexCast v226
  let c0_482 : Index := 0#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v406 : Index := Scalar.indexCast v382
  let c0_483 : Index := 0#32
  ![1, v405.toNat, 0, v406.toNat, 0]
def k0_off1188 (v330 : BitVec 32) : Fin 5 → Nat :=
  let c1_484 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v410 : Index := Scalar.indexCast v347
  let c1_485 : Index := 1#32
  let c0_486 : Index := 0#32
  let c0_487 : Index := 0#32
  ![1, v410.toNat, 1, 0, 0]
def k0_off1189 (v1 : BitVec 32) (k0_t34 : Fin (k0_t34_loop v1).trips) (v228 : BitVec 32) (v257 : BitVec 32) (k0_t45 : Fin (k0_t45_loop v228 v257).trips) : Fin 5 → Nat :=
  let c1_490 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v427 : Index := Scalar.indexCast v226
  let c1_491 : Index := 1#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v428 : Index := Scalar.indexCast v382
  let c0_492 : Index := 0#32
  ![1, v427.toNat, 1, v428.toNat, 0]
def k0_off1190 (v1 : BitVec 32) (k0_t34 : Fin (k0_t34_loop v1).trips) (v228 : BitVec 32) (v257 : BitVec 32) (k0_t45 : Fin (k0_t45_loop v228 v257).trips) : Fin 5 → Nat :=
  let c1_493 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v432 : Index := Scalar.indexCast v226
  let c0_i32_433 : BitVec 32 := 0#32
  let c1_i32_435 : BitVec 32 := 1#32
  let arg19 : BitVec 32 := Scf.iv c0_i32_433 c1_i32_435 k0_t45
  let v433 : Index := Scalar.indexCast arg19
  let c32 : Index := 32#32
  let c0_494 : Index := 0#32
  ![1, v432.toNat, v433.toNat, 32, 0]
def k0_off1191 (v330 : BitVec 32) : Fin 5 → Nat :=
  let c1_495 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v437 : Index := Scalar.indexCast v347
  let c2 : Index := 2#32
  let c0_496 : Index := 0#32
  let c0_497 : Index := 0#32
  ![1, v437.toNat, 2, 0, 0]
def k0_off1192 (v1 : BitVec 32) (k0_t34 : Fin (k0_t34_loop v1).trips) (v228 : BitVec 32) (v257 : BitVec 32) (k0_t45 : Fin (k0_t45_loop v228 v257).trips) : Fin 5 → Nat :=
  let c1_500 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v454 : Index := Scalar.indexCast v226
  let c2_501 : Index := 2#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v455 : Index := Scalar.indexCast v382
  let c0_502 : Index := 0#32
  ![1, v454.toNat, 2, v455.toNat, 0]
def k0_off1193 (v330 : BitVec 32) : Fin 5 → Nat :=
  let c1_503 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v459 : Index := Scalar.indexCast v347
  let c3 : Index := 3#32
  let c0_504 : Index := 0#32
  let c0_505 : Index := 0#32
  ![1, v459.toNat, 3, 0, 0]
def k0_off1194 (v1 : BitVec 32) (k0_t34 : Fin (k0_t34_loop v1).trips) (v228 : BitVec 32) (v257 : BitVec 32) (k0_t45 : Fin (k0_t45_loop v228 v257).trips) : Fin 5 → Nat :=
  let c1_508 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v476 : Index := Scalar.indexCast v226
  let c3_509 : Index := 3#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v477 : Index := Scalar.indexCast v382
  let c0_510 : Index := 0#32
  ![1, v476.toNat, 3, v477.toNat, 0]
def k0_off1195 (v1 : BitVec 32) (k0_t34 : Fin (k0_t34_loop v1).trips) (v228 : BitVec 32) (v257 : BitVec 32) (k0_t45 : Fin (k0_t45_loop v228 v257).trips) : Fin 5 → Nat :=
  let c1_511 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v481 : Index := Scalar.indexCast v226
  let c0_i32_433 : BitVec 32 := 0#32
  let c1_i32_435 : BitVec 32 := 1#32
  let arg19 : BitVec 32 := Scf.iv c0_i32_433 c1_i32_435 k0_t45
  let v482 : Index := Scalar.indexCast arg19
  let c64 : Index := 64#32
  let c0_512 : Index := 0#32
  ![1, v481.toNat, v482.toNat, 64, 0]
def k0_off1196 (v330 : BitVec 32) : Fin 5 → Nat :=
  let c1_513 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v486 : Index := Scalar.indexCast v347
  let c4 : Index := 4#32
  let c0_514 : Index := 0#32
  let c0_515 : Index := 0#32
  ![1, v486.toNat, 4, 0, 0]
def k0_off1197 (v1 : BitVec 32) (k0_t34 : Fin (k0_t34_loop v1).trips) (v228 : BitVec 32) (v257 : BitVec 32) (k0_t45 : Fin (k0_t45_loop v228 v257).trips) : Fin 5 → Nat :=
  let c1_518 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v503 : Index := Scalar.indexCast v226
  let c4_519 : Index := 4#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v504 : Index := Scalar.indexCast v382
  let c0_520 : Index := 0#32
  ![1, v503.toNat, 4, v504.toNat, 0]
def k0_off1198 (v330 : BitVec 32) : Fin 5 → Nat :=
  let c1_521 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v508 : Index := Scalar.indexCast v347
  let c5 : Index := 5#32
  let c0_522 : Index := 0#32
  let c0_523 : Index := 0#32
  ![1, v508.toNat, 5, 0, 0]
def k0_off1199 (v1 : BitVec 32) (k0_t34 : Fin (k0_t34_loop v1).trips) (v228 : BitVec 32) (v257 : BitVec 32) (k0_t45 : Fin (k0_t45_loop v228 v257).trips) : Fin 5 → Nat :=
  let c1_526 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v525 : Index := Scalar.indexCast v226
  let c5_527 : Index := 5#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v526 : Index := Scalar.indexCast v382
  let c0_528 : Index := 0#32
  ![1, v525.toNat, 5, v526.toNat, 0]
def k0_off1200 (v1 : BitVec 32) (k0_t34 : Fin (k0_t34_loop v1).trips) (v228 : BitVec 32) (v257 : BitVec 32) (k0_t45 : Fin (k0_t45_loop v228 v257).trips) : Fin 5 → Nat :=
  let c1_529 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v530 : Index := Scalar.indexCast v226
  let c0_i32_433 : BitVec 32 := 0#32
  let c1_i32_435 : BitVec 32 := 1#32
  let arg19 : BitVec 32 := Scf.iv c0_i32_433 c1_i32_435 k0_t45
  let v531 : Index := Scalar.indexCast arg19
  let c96 : Index := 96#32
  let c0_530 : Index := 0#32
  ![1, v530.toNat, v531.toNat, 96, 0]
def k0_off1201 (v330 : BitVec 32) : Fin 5 → Nat :=
  let c1_531 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v535 : Index := Scalar.indexCast v347
  let c6 : Index := 6#32
  let c0_532 : Index := 0#32
  let c0_533 : Index := 0#32
  ![1, v535.toNat, 6, 0, 0]
def k0_off1202 (v1 : BitVec 32) (k0_t34 : Fin (k0_t34_loop v1).trips) (v228 : BitVec 32) (v257 : BitVec 32) (k0_t45 : Fin (k0_t45_loop v228 v257).trips) : Fin 5 → Nat :=
  let c1_536 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v552 : Index := Scalar.indexCast v226
  let c6_537 : Index := 6#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v553 : Index := Scalar.indexCast v382
  let c0_538 : Index := 0#32
  ![1, v552.toNat, 6, v553.toNat, 0]
def k0_off1203 (v330 : BitVec 32) : Fin 5 → Nat :=
  let c1_539 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v557 : Index := Scalar.indexCast v347
  let c7 : Index := 7#32
  let c0_540 : Index := 0#32
  let c0_541 : Index := 0#32
  ![1, v557.toNat, 7, 0, 0]
def k0_off1204 (v1 : BitVec 32) (k0_t34 : Fin (k0_t34_loop v1).trips) (v228 : BitVec 32) (v257 : BitVec 32) (k0_t45 : Fin (k0_t45_loop v228 v257).trips) : Fin 5 → Nat :=
  let c1_544 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v574 : Index := Scalar.indexCast v226
  let c7_545 : Index := 7#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v575 : Index := Scalar.indexCast v382
  let c0_546 : Index := 0#32
  ![1, v574.toNat, 7, v575.toNat, 0]
def k0_off1205 (v1 : BitVec 32) (k0_t34 : Fin (k0_t34_loop v1).trips) (v228 : BitVec 32) (v257 : BitVec 32) (k0_t45 : Fin (k0_t45_loop v228 v257).trips) : Fin 5 → Nat :=
  let c1_547 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v579 : Index := Scalar.indexCast v226
  let c0_i32_433 : BitVec 32 := 0#32
  let c1_i32_435 : BitVec 32 := 1#32
  let arg19 : BitVec 32 := Scf.iv c0_i32_433 c1_i32_435 k0_t45
  let v580 : Index := Scalar.indexCast arg19
  let c128 : Index := 128#32
  let c0_548 : Index := 0#32
  ![1, v579.toNat, v580.toNat, 128, 0]
def k0_off1206 (v330 : BitVec 32) : Fin 5 → Nat :=
  let c1_549 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v584 : Index := Scalar.indexCast v347
  let c8 : Index := 8#32
  let c0_550 : Index := 0#32
  let c0_551 : Index := 0#32
  ![1, v584.toNat, 8, 0, 0]
def k0_off1207 (v1 : BitVec 32) (k0_t34 : Fin (k0_t34_loop v1).trips) (v228 : BitVec 32) (v257 : BitVec 32) (k0_t45 : Fin (k0_t45_loop v228 v257).trips) : Fin 5 → Nat :=
  let c1_554 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v601 : Index := Scalar.indexCast v226
  let c8_555 : Index := 8#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v602 : Index := Scalar.indexCast v382
  let c0_556 : Index := 0#32
  ![1, v601.toNat, 8, v602.toNat, 0]
def k0_off1208 (v330 : BitVec 32) : Fin 5 → Nat :=
  let c1_557 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v606 : Index := Scalar.indexCast v347
  let c9 : Index := 9#32
  let c0_558 : Index := 0#32
  let c0_559 : Index := 0#32
  ![1, v606.toNat, 9, 0, 0]
def k0_off1209 (v1 : BitVec 32) (k0_t34 : Fin (k0_t34_loop v1).trips) (v228 : BitVec 32) (v257 : BitVec 32) (k0_t45 : Fin (k0_t45_loop v228 v257).trips) : Fin 5 → Nat :=
  let c1_562 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v623 : Index := Scalar.indexCast v226
  let c9_563 : Index := 9#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v624 : Index := Scalar.indexCast v382
  let c0_564 : Index := 0#32
  ![1, v623.toNat, 9, v624.toNat, 0]
def k0_off1210 (v1 : BitVec 32) (k0_t34 : Fin (k0_t34_loop v1).trips) (v228 : BitVec 32) (v257 : BitVec 32) (k0_t45 : Fin (k0_t45_loop v228 v257).trips) : Fin 5 → Nat :=
  let c1_565 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v628 : Index := Scalar.indexCast v226
  let c0_i32_433 : BitVec 32 := 0#32
  let c1_i32_435 : BitVec 32 := 1#32
  let arg19 : BitVec 32 := Scf.iv c0_i32_433 c1_i32_435 k0_t45
  let v629 : Index := Scalar.indexCast arg19
  let c160 : Index := 160#32
  let c0_566 : Index := 0#32
  ![1, v628.toNat, v629.toNat, 160, 0]
def k0_off1211 (v330 : BitVec 32) : Fin 5 → Nat :=
  let c1_567 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v633 : Index := Scalar.indexCast v347
  let c10 : Index := 10#32
  let c0_568 : Index := 0#32
  let c0_569 : Index := 0#32
  ![1, v633.toNat, 10, 0, 0]
def k0_off1212 (v1 : BitVec 32) (k0_t34 : Fin (k0_t34_loop v1).trips) (v228 : BitVec 32) (v257 : BitVec 32) (k0_t45 : Fin (k0_t45_loop v228 v257).trips) : Fin 5 → Nat :=
  let c1_572 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v650 : Index := Scalar.indexCast v226
  let c10_573 : Index := 10#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v651 : Index := Scalar.indexCast v382
  let c0_574 : Index := 0#32
  ![1, v650.toNat, 10, v651.toNat, 0]
def k0_off1213 (v330 : BitVec 32) : Fin 5 → Nat :=
  let c1_575 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v655 : Index := Scalar.indexCast v347
  let c11 : Index := 11#32
  let c0_576 : Index := 0#32
  let c0_577 : Index := 0#32
  ![1, v655.toNat, 11, 0, 0]
def k0_off1214 (v1 : BitVec 32) (k0_t34 : Fin (k0_t34_loop v1).trips) (v228 : BitVec 32) (v257 : BitVec 32) (k0_t45 : Fin (k0_t45_loop v228 v257).trips) : Fin 5 → Nat :=
  let c1_580 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v672 : Index := Scalar.indexCast v226
  let c11_581 : Index := 11#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v673 : Index := Scalar.indexCast v382
  let c0_582 : Index := 0#32
  ![1, v672.toNat, 11, v673.toNat, 0]
def k0_off1215 (v1 : BitVec 32) (k0_t34 : Fin (k0_t34_loop v1).trips) (v228 : BitVec 32) (v257 : BitVec 32) (k0_t45 : Fin (k0_t45_loop v228 v257).trips) : Fin 5 → Nat :=
  let c1_583 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v677 : Index := Scalar.indexCast v226
  let c0_i32_433 : BitVec 32 := 0#32
  let c1_i32_435 : BitVec 32 := 1#32
  let arg19 : BitVec 32 := Scf.iv c0_i32_433 c1_i32_435 k0_t45
  let v678 : Index := Scalar.indexCast arg19
  let c192 : Index := 192#32
  let c0_584 : Index := 0#32
  ![1, v677.toNat, v678.toNat, 192, 0]
def k0_off1216 (v330 : BitVec 32) : Fin 5 → Nat :=
  let c1_585 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v682 : Index := Scalar.indexCast v347
  let c12 : Index := 12#32
  let c0_586 : Index := 0#32
  let c0_587 : Index := 0#32
  ![1, v682.toNat, 12, 0, 0]
def k0_off1217 (v1 : BitVec 32) (k0_t34 : Fin (k0_t34_loop v1).trips) (v228 : BitVec 32) (v257 : BitVec 32) (k0_t45 : Fin (k0_t45_loop v228 v257).trips) : Fin 5 → Nat :=
  let c1_590 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v699 : Index := Scalar.indexCast v226
  let c12_591 : Index := 12#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v700 : Index := Scalar.indexCast v382
  let c0_592 : Index := 0#32
  ![1, v699.toNat, 12, v700.toNat, 0]
def k0_off1218 (v330 : BitVec 32) : Fin 5 → Nat :=
  let c1_593 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v704 : Index := Scalar.indexCast v347
  let c13 : Index := 13#32
  let c0_594 : Index := 0#32
  let c0_595 : Index := 0#32
  ![1, v704.toNat, 13, 0, 0]
def k0_off1219 (v1 : BitVec 32) (k0_t34 : Fin (k0_t34_loop v1).trips) (v228 : BitVec 32) (v257 : BitVec 32) (k0_t45 : Fin (k0_t45_loop v228 v257).trips) : Fin 5 → Nat :=
  let c1_598 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v721 : Index := Scalar.indexCast v226
  let c13_599 : Index := 13#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v722 : Index := Scalar.indexCast v382
  let c0_600 : Index := 0#32
  ![1, v721.toNat, 13, v722.toNat, 0]
def k0_off1220 (v1 : BitVec 32) (k0_t34 : Fin (k0_t34_loop v1).trips) (v228 : BitVec 32) (v257 : BitVec 32) (k0_t45 : Fin (k0_t45_loop v228 v257).trips) : Fin 5 → Nat :=
  let c1_601 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v726 : Index := Scalar.indexCast v226
  let c0_i32_433 : BitVec 32 := 0#32
  let c1_i32_435 : BitVec 32 := 1#32
  let arg19 : BitVec 32 := Scf.iv c0_i32_433 c1_i32_435 k0_t45
  let v727 : Index := Scalar.indexCast arg19
  let c224 : Index := 224#32
  let c0_602 : Index := 0#32
  ![1, v726.toNat, v727.toNat, 224, 0]
def k0_off1221 (v330 : BitVec 32) : Fin 5 → Nat :=
  let c1_603 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v731 : Index := Scalar.indexCast v347
  let c14 : Index := 14#32
  let c0_604 : Index := 0#32
  let c0_605 : Index := 0#32
  ![1, v731.toNat, 14, 0, 0]
def k0_off1222 (v1 : BitVec 32) (k0_t34 : Fin (k0_t34_loop v1).trips) (v228 : BitVec 32) (v257 : BitVec 32) (k0_t45 : Fin (k0_t45_loop v228 v257).trips) : Fin 5 → Nat :=
  let c1_608 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v748 : Index := Scalar.indexCast v226
  let c14_609 : Index := 14#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v749 : Index := Scalar.indexCast v382
  let c0_610 : Index := 0#32
  ![1, v748.toNat, 14, v749.toNat, 0]
def k0_off1223 (v330 : BitVec 32) : Fin 5 → Nat :=
  let c1_611 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v753 : Index := Scalar.indexCast v347
  let c15 : Index := 15#32
  let c0_612 : Index := 0#32
  let c0_613 : Index := 0#32
  ![1, v753.toNat, 15, 0, 0]
def k0_off1224 (v1 : BitVec 32) (k0_t34 : Fin (k0_t34_loop v1).trips) (v228 : BitVec 32) (v257 : BitVec 32) (k0_t45 : Fin (k0_t45_loop v228 v257).trips) : Fin 5 → Nat :=
  let c1_616 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v770 : Index := Scalar.indexCast v226
  let c15_617 : Index := 15#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v771 : Index := Scalar.indexCast v382
  let c0_618 : Index := 0#32
  ![1, v770.toNat, 15, v771.toNat, 0]
def k0_off1225 (v1 : BitVec 32) (k0_t34 : Fin (k0_t34_loop v1).trips) (v228 : BitVec 32) (v257 : BitVec 32) (k0_t45 : Fin (k0_t45_loop v228 v257).trips) : Fin 5 → Nat :=
  let c1_619 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v775 : Index := Scalar.indexCast v226
  let c0_i32_433 : BitVec 32 := 0#32
  let c1_i32_435 : BitVec 32 := 1#32
  let arg19 : BitVec 32 := Scf.iv c0_i32_433 c1_i32_435 k0_t45
  let v776 : Index := Scalar.indexCast arg19
  let c256 : Index := 256#32
  let c0_620 : Index := 0#32
  ![1, v775.toNat, v776.toNat, 256, 0]
def k0_off1226 (v330 : BitVec 32) : Fin 5 → Nat :=
  let c1_621 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v780 : Index := Scalar.indexCast v347
  let c16 : Index := 16#32
  let c0_622 : Index := 0#32
  let c0_623 : Index := 0#32
  ![1, v780.toNat, 16, 0, 0]
def k0_off1227 (v1 : BitVec 32) (k0_t34 : Fin (k0_t34_loop v1).trips) (v228 : BitVec 32) (v257 : BitVec 32) (k0_t45 : Fin (k0_t45_loop v228 v257).trips) : Fin 5 → Nat :=
  let c1_626 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v797 : Index := Scalar.indexCast v226
  let c16_627 : Index := 16#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v798 : Index := Scalar.indexCast v382
  let c0_628 : Index := 0#32
  ![1, v797.toNat, 16, v798.toNat, 0]
def k0_off1228 (v330 : BitVec 32) : Fin 5 → Nat :=
  let c1_629 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v802 : Index := Scalar.indexCast v347
  let c17 : Index := 17#32
  let c0_630 : Index := 0#32
  let c0_631 : Index := 0#32
  ![1, v802.toNat, 17, 0, 0]
def k0_off1229 (v1 : BitVec 32) (k0_t34 : Fin (k0_t34_loop v1).trips) (v228 : BitVec 32) (v257 : BitVec 32) (k0_t45 : Fin (k0_t45_loop v228 v257).trips) : Fin 5 → Nat :=
  let c1_634 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v819 : Index := Scalar.indexCast v226
  let c17_635 : Index := 17#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v820 : Index := Scalar.indexCast v382
  let c0_636 : Index := 0#32
  ![1, v819.toNat, 17, v820.toNat, 0]
def k0_off1230 (v1 : BitVec 32) (k0_t34 : Fin (k0_t34_loop v1).trips) (v228 : BitVec 32) (v257 : BitVec 32) (k0_t45 : Fin (k0_t45_loop v228 v257).trips) : Fin 5 → Nat :=
  let c1_637 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v824 : Index := Scalar.indexCast v226
  let c0_i32_433 : BitVec 32 := 0#32
  let c1_i32_435 : BitVec 32 := 1#32
  let arg19 : BitVec 32 := Scf.iv c0_i32_433 c1_i32_435 k0_t45
  let v825 : Index := Scalar.indexCast arg19
  let c288 : Index := 288#32
  let c0_638 : Index := 0#32
  ![1, v824.toNat, v825.toNat, 288, 0]
def k0_off1231 (v330 : BitVec 32) : Fin 5 → Nat :=
  let c1_639 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v829 : Index := Scalar.indexCast v347
  let c18 : Index := 18#32
  let c0_640 : Index := 0#32
  let c0_641 : Index := 0#32
  ![1, v829.toNat, 18, 0, 0]
def k0_off1232 (v1 : BitVec 32) (k0_t34 : Fin (k0_t34_loop v1).trips) (v228 : BitVec 32) (v257 : BitVec 32) (k0_t45 : Fin (k0_t45_loop v228 v257).trips) : Fin 5 → Nat :=
  let c1_644 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v846 : Index := Scalar.indexCast v226
  let c18_645 : Index := 18#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v847 : Index := Scalar.indexCast v382
  let c0_646 : Index := 0#32
  ![1, v846.toNat, 18, v847.toNat, 0]
def k0_off1233 (v330 : BitVec 32) : Fin 5 → Nat :=
  let c1_647 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v851 : Index := Scalar.indexCast v347
  let c19 : Index := 19#32
  let c0_648 : Index := 0#32
  let c0_649 : Index := 0#32
  ![1, v851.toNat, 19, 0, 0]
def k0_off1234 (v1 : BitVec 32) (k0_t34 : Fin (k0_t34_loop v1).trips) (v228 : BitVec 32) (v257 : BitVec 32) (k0_t45 : Fin (k0_t45_loop v228 v257).trips) : Fin 5 → Nat :=
  let c1_652 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v868 : Index := Scalar.indexCast v226
  let c19_653 : Index := 19#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v869 : Index := Scalar.indexCast v382
  let c0_654 : Index := 0#32
  ![1, v868.toNat, 19, v869.toNat, 0]
def k0_off1235 (v1 : BitVec 32) (k0_t34 : Fin (k0_t34_loop v1).trips) (v228 : BitVec 32) (v257 : BitVec 32) (k0_t45 : Fin (k0_t45_loop v228 v257).trips) : Fin 5 → Nat :=
  let c1_655 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v873 : Index := Scalar.indexCast v226
  let c0_i32_433 : BitVec 32 := 0#32
  let c1_i32_435 : BitVec 32 := 1#32
  let arg19 : BitVec 32 := Scf.iv c0_i32_433 c1_i32_435 k0_t45
  let v874 : Index := Scalar.indexCast arg19
  let c320 : Index := 320#32
  let c0_656 : Index := 0#32
  ![1, v873.toNat, v874.toNat, 320, 0]
def k0_off1236 (v330 : BitVec 32) : Fin 5 → Nat :=
  let c1_657 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v878 : Index := Scalar.indexCast v347
  let c20 : Index := 20#32
  let c0_658 : Index := 0#32
  let c0_659 : Index := 0#32
  ![1, v878.toNat, 20, 0, 0]
def k0_off1237 (v1 : BitVec 32) (k0_t34 : Fin (k0_t34_loop v1).trips) (v228 : BitVec 32) (v257 : BitVec 32) (k0_t45 : Fin (k0_t45_loop v228 v257).trips) : Fin 5 → Nat :=
  let c1_662 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v895 : Index := Scalar.indexCast v226
  let c20_663 : Index := 20#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v896 : Index := Scalar.indexCast v382
  let c0_664 : Index := 0#32
  ![1, v895.toNat, 20, v896.toNat, 0]
def k0_off1238 (v330 : BitVec 32) : Fin 5 → Nat :=
  let c1_665 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v900 : Index := Scalar.indexCast v347
  let c21 : Index := 21#32
  let c0_666 : Index := 0#32
  let c0_667 : Index := 0#32
  ![1, v900.toNat, 21, 0, 0]
def k0_off1239 (v1 : BitVec 32) (k0_t34 : Fin (k0_t34_loop v1).trips) (v228 : BitVec 32) (v257 : BitVec 32) (k0_t45 : Fin (k0_t45_loop v228 v257).trips) : Fin 5 → Nat :=
  let c1_670 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v917 : Index := Scalar.indexCast v226
  let c21_671 : Index := 21#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v918 : Index := Scalar.indexCast v382
  let c0_672 : Index := 0#32
  ![1, v917.toNat, 21, v918.toNat, 0]
def k0_off1240 (v1 : BitVec 32) (k0_t34 : Fin (k0_t34_loop v1).trips) (v228 : BitVec 32) (v257 : BitVec 32) (k0_t45 : Fin (k0_t45_loop v228 v257).trips) : Fin 5 → Nat :=
  let c1_673 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v922 : Index := Scalar.indexCast v226
  let c0_i32_433 : BitVec 32 := 0#32
  let c1_i32_435 : BitVec 32 := 1#32
  let arg19 : BitVec 32 := Scf.iv c0_i32_433 c1_i32_435 k0_t45
  let v923 : Index := Scalar.indexCast arg19
  let c352 : Index := 352#32
  let c0_674 : Index := 0#32
  ![1, v922.toNat, v923.toNat, 352, 0]
def k0_off1241 (v330 : BitVec 32) : Fin 5 → Nat :=
  let c1_675 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v927 : Index := Scalar.indexCast v347
  let c22 : Index := 22#32
  let c0_676 : Index := 0#32
  let c0_677 : Index := 0#32
  ![1, v927.toNat, 22, 0, 0]
def k0_off1242 (v1 : BitVec 32) (k0_t34 : Fin (k0_t34_loop v1).trips) (v228 : BitVec 32) (v257 : BitVec 32) (k0_t45 : Fin (k0_t45_loop v228 v257).trips) : Fin 5 → Nat :=
  let c1_680 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v944 : Index := Scalar.indexCast v226
  let c22_681 : Index := 22#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v945 : Index := Scalar.indexCast v382
  let c0_682 : Index := 0#32
  ![1, v944.toNat, 22, v945.toNat, 0]
def k0_off1243 (v330 : BitVec 32) : Fin 5 → Nat :=
  let c1_683 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v949 : Index := Scalar.indexCast v347
  let c23 : Index := 23#32
  let c0_684 : Index := 0#32
  let c0_685 : Index := 0#32
  ![1, v949.toNat, 23, 0, 0]
def k0_off1244 (v1 : BitVec 32) (k0_t34 : Fin (k0_t34_loop v1).trips) (v228 : BitVec 32) (v257 : BitVec 32) (k0_t45 : Fin (k0_t45_loop v228 v257).trips) : Fin 5 → Nat :=
  let c1_688 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v966 : Index := Scalar.indexCast v226
  let c23_689 : Index := 23#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v967 : Index := Scalar.indexCast v382
  let c0_690 : Index := 0#32
  ![1, v966.toNat, 23, v967.toNat, 0]
def k0_off1245 (v1 : BitVec 32) (k0_t34 : Fin (k0_t34_loop v1).trips) (v228 : BitVec 32) (v257 : BitVec 32) (k0_t45 : Fin (k0_t45_loop v228 v257).trips) : Fin 5 → Nat :=
  let c1_691 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v971 : Index := Scalar.indexCast v226
  let c0_i32_433 : BitVec 32 := 0#32
  let c1_i32_435 : BitVec 32 := 1#32
  let arg19 : BitVec 32 := Scf.iv c0_i32_433 c1_i32_435 k0_t45
  let v972 : Index := Scalar.indexCast arg19
  let c384 : Index := 384#32
  let c0_692 : Index := 0#32
  ![1, v971.toNat, v972.toNat, 384, 0]
def k0_off1246 (v330 : BitVec 32) : Fin 5 → Nat :=
  let c1_693 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v976 : Index := Scalar.indexCast v347
  let c24 : Index := 24#32
  let c0_694 : Index := 0#32
  let c0_695 : Index := 0#32
  ![1, v976.toNat, 24, 0, 0]
def k0_off1247 (v1 : BitVec 32) (k0_t34 : Fin (k0_t34_loop v1).trips) (v228 : BitVec 32) (v257 : BitVec 32) (k0_t45 : Fin (k0_t45_loop v228 v257).trips) : Fin 5 → Nat :=
  let c1_698 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v993 : Index := Scalar.indexCast v226
  let c24_699 : Index := 24#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v994 : Index := Scalar.indexCast v382
  let c0_700 : Index := 0#32
  ![1, v993.toNat, 24, v994.toNat, 0]
def k0_off1248 (v330 : BitVec 32) : Fin 5 → Nat :=
  let c1_701 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v998 : Index := Scalar.indexCast v347
  let c25 : Index := 25#32
  let c0_702 : Index := 0#32
  let c0_703 : Index := 0#32
  ![1, v998.toNat, 25, 0, 0]
def k0_off1249 (v1 : BitVec 32) (k0_t34 : Fin (k0_t34_loop v1).trips) (v228 : BitVec 32) (v257 : BitVec 32) (k0_t45 : Fin (k0_t45_loop v228 v257).trips) : Fin 5 → Nat :=
  let c1_706 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1015 : Index := Scalar.indexCast v226
  let c25_707 : Index := 25#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1016 : Index := Scalar.indexCast v382
  let c0_708 : Index := 0#32
  ![1, v1015.toNat, 25, v1016.toNat, 0]
def k0_off1250 (v1 : BitVec 32) (k0_t34 : Fin (k0_t34_loop v1).trips) (v228 : BitVec 32) (v257 : BitVec 32) (k0_t45 : Fin (k0_t45_loop v228 v257).trips) : Fin 5 → Nat :=
  let c1_709 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1020 : Index := Scalar.indexCast v226
  let c0_i32_433 : BitVec 32 := 0#32
  let c1_i32_435 : BitVec 32 := 1#32
  let arg19 : BitVec 32 := Scf.iv c0_i32_433 c1_i32_435 k0_t45
  let v1021 : Index := Scalar.indexCast arg19
  let c416 : Index := 416#32
  let c0_710 : Index := 0#32
  ![1, v1020.toNat, v1021.toNat, 416, 0]
def k0_off1251 (v330 : BitVec 32) : Fin 5 → Nat :=
  let c1_711 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1025 : Index := Scalar.indexCast v347
  let c26 : Index := 26#32
  let c0_712 : Index := 0#32
  let c0_713 : Index := 0#32
  ![1, v1025.toNat, 26, 0, 0]
def k0_off1252 (v1 : BitVec 32) (k0_t34 : Fin (k0_t34_loop v1).trips) (v228 : BitVec 32) (v257 : BitVec 32) (k0_t45 : Fin (k0_t45_loop v228 v257).trips) : Fin 5 → Nat :=
  let c1_716 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1042 : Index := Scalar.indexCast v226
  let c26_717 : Index := 26#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1043 : Index := Scalar.indexCast v382
  let c0_718 : Index := 0#32
  ![1, v1042.toNat, 26, v1043.toNat, 0]
def k0_off1253 (v330 : BitVec 32) : Fin 5 → Nat :=
  let c1_719 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1047 : Index := Scalar.indexCast v347
  let c27 : Index := 27#32
  let c0_720 : Index := 0#32
  let c0_721 : Index := 0#32
  ![1, v1047.toNat, 27, 0, 0]
def k0_off1254 (v1 : BitVec 32) (k0_t34 : Fin (k0_t34_loop v1).trips) (v228 : BitVec 32) (v257 : BitVec 32) (k0_t45 : Fin (k0_t45_loop v228 v257).trips) : Fin 5 → Nat :=
  let c1_724 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1064 : Index := Scalar.indexCast v226
  let c27_725 : Index := 27#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1065 : Index := Scalar.indexCast v382
  let c0_726 : Index := 0#32
  ![1, v1064.toNat, 27, v1065.toNat, 0]
def k0_off1255 (v1 : BitVec 32) (k0_t34 : Fin (k0_t34_loop v1).trips) (v228 : BitVec 32) (v257 : BitVec 32) (k0_t45 : Fin (k0_t45_loop v228 v257).trips) : Fin 5 → Nat :=
  let c1_727 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1069 : Index := Scalar.indexCast v226
  let c0_i32_433 : BitVec 32 := 0#32
  let c1_i32_435 : BitVec 32 := 1#32
  let arg19 : BitVec 32 := Scf.iv c0_i32_433 c1_i32_435 k0_t45
  let v1070 : Index := Scalar.indexCast arg19
  let c448 : Index := 448#32
  let c0_728 : Index := 0#32
  ![1, v1069.toNat, v1070.toNat, 448, 0]
def k0_off1256 (v330 : BitVec 32) : Fin 5 → Nat :=
  let c1_729 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1074 : Index := Scalar.indexCast v347
  let c28 : Index := 28#32
  let c0_730 : Index := 0#32
  let c0_731 : Index := 0#32
  ![1, v1074.toNat, 28, 0, 0]
def k0_off1257 (v1 : BitVec 32) (k0_t34 : Fin (k0_t34_loop v1).trips) (v228 : BitVec 32) (v257 : BitVec 32) (k0_t45 : Fin (k0_t45_loop v228 v257).trips) : Fin 5 → Nat :=
  let c1_734 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1091 : Index := Scalar.indexCast v226
  let c28_735 : Index := 28#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1092 : Index := Scalar.indexCast v382
  let c0_736 : Index := 0#32
  ![1, v1091.toNat, 28, v1092.toNat, 0]
def k0_off1258 (v330 : BitVec 32) : Fin 5 → Nat :=
  let c1_737 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1096 : Index := Scalar.indexCast v347
  let c29 : Index := 29#32
  let c0_738 : Index := 0#32
  let c0_739 : Index := 0#32
  ![1, v1096.toNat, 29, 0, 0]
def k0_off1259 (v1 : BitVec 32) (k0_t34 : Fin (k0_t34_loop v1).trips) (v228 : BitVec 32) (v257 : BitVec 32) (k0_t45 : Fin (k0_t45_loop v228 v257).trips) : Fin 5 → Nat :=
  let c1_742 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1113 : Index := Scalar.indexCast v226
  let c29_743 : Index := 29#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1114 : Index := Scalar.indexCast v382
  let c0_744 : Index := 0#32
  ![1, v1113.toNat, 29, v1114.toNat, 0]
def k0_off1260 (v1 : BitVec 32) (k0_t34 : Fin (k0_t34_loop v1).trips) (v228 : BitVec 32) (v257 : BitVec 32) (k0_t45 : Fin (k0_t45_loop v228 v257).trips) : Fin 5 → Nat :=
  let c1_745 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1118 : Index := Scalar.indexCast v226
  let c0_i32_433 : BitVec 32 := 0#32
  let c1_i32_435 : BitVec 32 := 1#32
  let arg19 : BitVec 32 := Scf.iv c0_i32_433 c1_i32_435 k0_t45
  let v1119 : Index := Scalar.indexCast arg19
  let c480 : Index := 480#32
  let c0_746 : Index := 0#32
  ![1, v1118.toNat, v1119.toNat, 480, 0]
def k0_off1261 (v330 : BitVec 32) : Fin 5 → Nat :=
  let c1_747 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1123 : Index := Scalar.indexCast v347
  let c30 : Index := 30#32
  let c0_748 : Index := 0#32
  let c0_749 : Index := 0#32
  ![1, v1123.toNat, 30, 0, 0]
def k0_off1262 (v1 : BitVec 32) (k0_t34 : Fin (k0_t34_loop v1).trips) (v228 : BitVec 32) (v257 : BitVec 32) (k0_t45 : Fin (k0_t45_loop v228 v257).trips) : Fin 5 → Nat :=
  let c1_752 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1140 : Index := Scalar.indexCast v226
  let c30_753 : Index := 30#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1141 : Index := Scalar.indexCast v382
  let c0_754 : Index := 0#32
  ![1, v1140.toNat, 30, v1141.toNat, 0]
def k0_off1263 (v330 : BitVec 32) : Fin 5 → Nat :=
  let c1_755 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1145 : Index := Scalar.indexCast v347
  let c31 : Index := 31#32
  let c0_756 : Index := 0#32
  let c0_757 : Index := 0#32
  ![1, v1145.toNat, 31, 0, 0]
def k0_off1264 (v1 : BitVec 32) (k0_t34 : Fin (k0_t34_loop v1).trips) (v228 : BitVec 32) (v257 : BitVec 32) (k0_t45 : Fin (k0_t45_loop v228 v257).trips) : Fin 5 → Nat :=
  let c1_760 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1162 : Index := Scalar.indexCast v226
  let c31_761 : Index := 31#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1163 : Index := Scalar.indexCast v382
  let c0_762 : Index := 0#32
  ![1, v1162.toNat, 31, v1163.toNat, 0]
def k0_off1265 (v1 : BitVec 32) (k0_t34 : Fin (k0_t34_loop v1).trips) (v228 : BitVec 32) (v257 : BitVec 32) (k0_t45 : Fin (k0_t45_loop v228 v257).trips) : Fin 5 → Nat :=
  let c1_763 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1167 : Index := Scalar.indexCast v226
  let c0_i32_433 : BitVec 32 := 0#32
  let c1_i32_435 : BitVec 32 := 1#32
  let arg19 : BitVec 32 := Scf.iv c0_i32_433 c1_i32_435 k0_t45
  let v1168 : Index := Scalar.indexCast arg19
  let c512 : Index := 512#32
  let c0_764 : Index := 0#32
  ![1, v1167.toNat, v1168.toNat, 512, 0]
def k0_off1266 (v330 : BitVec 32) : Fin 5 → Nat :=
  let c1_765 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1172 : Index := Scalar.indexCast v347
  let c32_766 : Index := 32#32
  let c0_767 : Index := 0#32
  let c0_768 : Index := 0#32
  ![1, v1172.toNat, 32, 0, 0]
def k0_off1267 (v1 : BitVec 32) (k0_t34 : Fin (k0_t34_loop v1).trips) (v228 : BitVec 32) (v257 : BitVec 32) (k0_t45 : Fin (k0_t45_loop v228 v257).trips) : Fin 5 → Nat :=
  let c1_771 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1189 : Index := Scalar.indexCast v226
  let c32_772 : Index := 32#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1190 : Index := Scalar.indexCast v382
  let c0_773 : Index := 0#32
  ![1, v1189.toNat, 32, v1190.toNat, 0]
def k0_off1268 (v330 : BitVec 32) : Fin 5 → Nat :=
  let c1_774 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1194 : Index := Scalar.indexCast v347
  let c33 : Index := 33#32
  let c0_775 : Index := 0#32
  let c0_776 : Index := 0#32
  ![1, v1194.toNat, 33, 0, 0]
def k0_off1269 (v1 : BitVec 32) (k0_t34 : Fin (k0_t34_loop v1).trips) (v228 : BitVec 32) (v257 : BitVec 32) (k0_t45 : Fin (k0_t45_loop v228 v257).trips) : Fin 5 → Nat :=
  let c1_779 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1211 : Index := Scalar.indexCast v226
  let c33_780 : Index := 33#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1212 : Index := Scalar.indexCast v382
  let c0_781 : Index := 0#32
  ![1, v1211.toNat, 33, v1212.toNat, 0]
def k0_off1270 (v1 : BitVec 32) (k0_t34 : Fin (k0_t34_loop v1).trips) (v228 : BitVec 32) (v257 : BitVec 32) (k0_t45 : Fin (k0_t45_loop v228 v257).trips) : Fin 5 → Nat :=
  let c1_782 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1216 : Index := Scalar.indexCast v226
  let c0_i32_433 : BitVec 32 := 0#32
  let c1_i32_435 : BitVec 32 := 1#32
  let arg19 : BitVec 32 := Scf.iv c0_i32_433 c1_i32_435 k0_t45
  let v1217 : Index := Scalar.indexCast arg19
  let c544 : Index := 544#32
  let c0_783 : Index := 0#32
  ![1, v1216.toNat, v1217.toNat, 544, 0]
def k0_off1271 (v330 : BitVec 32) : Fin 5 → Nat :=
  let c1_784 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1221 : Index := Scalar.indexCast v347
  let c34 : Index := 34#32
  let c0_785 : Index := 0#32
  let c0_786 : Index := 0#32
  ![1, v1221.toNat, 34, 0, 0]
def k0_off1272 (v1 : BitVec 32) (k0_t34 : Fin (k0_t34_loop v1).trips) (v228 : BitVec 32) (v257 : BitVec 32) (k0_t45 : Fin (k0_t45_loop v228 v257).trips) : Fin 5 → Nat :=
  let c1_789 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1238 : Index := Scalar.indexCast v226
  let c34_790 : Index := 34#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1239 : Index := Scalar.indexCast v382
  let c0_791 : Index := 0#32
  ![1, v1238.toNat, 34, v1239.toNat, 0]
def k0_off1273 (v330 : BitVec 32) : Fin 5 → Nat :=
  let c1_792 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1243 : Index := Scalar.indexCast v347
  let c35 : Index := 35#32
  let c0_793 : Index := 0#32
  let c0_794 : Index := 0#32
  ![1, v1243.toNat, 35, 0, 0]
def k0_off1274 (v1 : BitVec 32) (k0_t34 : Fin (k0_t34_loop v1).trips) (v228 : BitVec 32) (v257 : BitVec 32) (k0_t45 : Fin (k0_t45_loop v228 v257).trips) : Fin 5 → Nat :=
  let c1_797 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1260 : Index := Scalar.indexCast v226
  let c35_798 : Index := 35#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1261 : Index := Scalar.indexCast v382
  let c0_799 : Index := 0#32
  ![1, v1260.toNat, 35, v1261.toNat, 0]
def k0_off1275 (v1 : BitVec 32) (k0_t34 : Fin (k0_t34_loop v1).trips) (v228 : BitVec 32) (v257 : BitVec 32) (k0_t45 : Fin (k0_t45_loop v228 v257).trips) : Fin 5 → Nat :=
  let c1_800 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1265 : Index := Scalar.indexCast v226
  let c0_i32_433 : BitVec 32 := 0#32
  let c1_i32_435 : BitVec 32 := 1#32
  let arg19 : BitVec 32 := Scf.iv c0_i32_433 c1_i32_435 k0_t45
  let v1266 : Index := Scalar.indexCast arg19
  let c576 : Index := 576#32
  let c0_801 : Index := 0#32
  ![1, v1265.toNat, v1266.toNat, 576, 0]
def k0_off1276 (v330 : BitVec 32) : Fin 5 → Nat :=
  let c1_802 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1270 : Index := Scalar.indexCast v347
  let c36 : Index := 36#32
  let c0_803 : Index := 0#32
  let c0_804 : Index := 0#32
  ![1, v1270.toNat, 36, 0, 0]
def k0_off1277 (v1 : BitVec 32) (k0_t34 : Fin (k0_t34_loop v1).trips) (v228 : BitVec 32) (v257 : BitVec 32) (k0_t45 : Fin (k0_t45_loop v228 v257).trips) : Fin 5 → Nat :=
  let c1_807 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1287 : Index := Scalar.indexCast v226
  let c36_808 : Index := 36#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1288 : Index := Scalar.indexCast v382
  let c0_809 : Index := 0#32
  ![1, v1287.toNat, 36, v1288.toNat, 0]
def k0_off1278 (v330 : BitVec 32) : Fin 5 → Nat :=
  let c1_810 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1292 : Index := Scalar.indexCast v347
  let c37 : Index := 37#32
  let c0_811 : Index := 0#32
  let c0_812 : Index := 0#32
  ![1, v1292.toNat, 37, 0, 0]
def k0_off1279 (v1 : BitVec 32) (k0_t34 : Fin (k0_t34_loop v1).trips) (v228 : BitVec 32) (v257 : BitVec 32) (k0_t45 : Fin (k0_t45_loop v228 v257).trips) : Fin 5 → Nat :=
  let c1_815 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1309 : Index := Scalar.indexCast v226
  let c37_816 : Index := 37#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1310 : Index := Scalar.indexCast v382
  let c0_817 : Index := 0#32
  ![1, v1309.toNat, 37, v1310.toNat, 0]
def k0_off1280 (v1 : BitVec 32) (k0_t34 : Fin (k0_t34_loop v1).trips) (v228 : BitVec 32) (v257 : BitVec 32) (k0_t45 : Fin (k0_t45_loop v228 v257).trips) : Fin 5 → Nat :=
  let c1_818 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1314 : Index := Scalar.indexCast v226
  let c0_i32_433 : BitVec 32 := 0#32
  let c1_i32_435 : BitVec 32 := 1#32
  let arg19 : BitVec 32 := Scf.iv c0_i32_433 c1_i32_435 k0_t45
  let v1315 : Index := Scalar.indexCast arg19
  let c608 : Index := 608#32
  let c0_819 : Index := 0#32
  ![1, v1314.toNat, v1315.toNat, 608, 0]
def k0_off1281 (v330 : BitVec 32) : Fin 5 → Nat :=
  let c1_820 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1319 : Index := Scalar.indexCast v347
  let c38 : Index := 38#32
  let c0_821 : Index := 0#32
  let c0_822 : Index := 0#32
  ![1, v1319.toNat, 38, 0, 0]
def k0_off1282 (v1 : BitVec 32) (k0_t34 : Fin (k0_t34_loop v1).trips) (v228 : BitVec 32) (v257 : BitVec 32) (k0_t45 : Fin (k0_t45_loop v228 v257).trips) : Fin 5 → Nat :=
  let c1_825 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1336 : Index := Scalar.indexCast v226
  let c38_826 : Index := 38#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1337 : Index := Scalar.indexCast v382
  let c0_827 : Index := 0#32
  ![1, v1336.toNat, 38, v1337.toNat, 0]
def k0_off1283 (v330 : BitVec 32) : Fin 5 → Nat :=
  let c1_828 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1341 : Index := Scalar.indexCast v347
  let c39 : Index := 39#32
  let c0_829 : Index := 0#32
  let c0_830 : Index := 0#32
  ![1, v1341.toNat, 39, 0, 0]
def k0_off1284 (v1 : BitVec 32) (k0_t34 : Fin (k0_t34_loop v1).trips) (v228 : BitVec 32) (v257 : BitVec 32) (k0_t45 : Fin (k0_t45_loop v228 v257).trips) : Fin 5 → Nat :=
  let c1_833 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1358 : Index := Scalar.indexCast v226
  let c39_834 : Index := 39#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1359 : Index := Scalar.indexCast v382
  let c0_835 : Index := 0#32
  ![1, v1358.toNat, 39, v1359.toNat, 0]
def k0_off1285 (v1 : BitVec 32) (k0_t34 : Fin (k0_t34_loop v1).trips) (v228 : BitVec 32) (v257 : BitVec 32) (k0_t45 : Fin (k0_t45_loop v228 v257).trips) : Fin 5 → Nat :=
  let c1_836 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1363 : Index := Scalar.indexCast v226
  let c0_i32_433 : BitVec 32 := 0#32
  let c1_i32_435 : BitVec 32 := 1#32
  let arg19 : BitVec 32 := Scf.iv c0_i32_433 c1_i32_435 k0_t45
  let v1364 : Index := Scalar.indexCast arg19
  let c640 : Index := 640#32
  let c0_837 : Index := 0#32
  ![1, v1363.toNat, v1364.toNat, 640, 0]
def k0_off1286 (v330 : BitVec 32) : Fin 5 → Nat :=
  let c1_838 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1368 : Index := Scalar.indexCast v347
  let c40 : Index := 40#32
  let c0_839 : Index := 0#32
  let c0_840 : Index := 0#32
  ![1, v1368.toNat, 40, 0, 0]
def k0_off1287 (v1 : BitVec 32) (k0_t34 : Fin (k0_t34_loop v1).trips) (v228 : BitVec 32) (v257 : BitVec 32) (k0_t45 : Fin (k0_t45_loop v228 v257).trips) : Fin 5 → Nat :=
  let c1_843 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1385 : Index := Scalar.indexCast v226
  let c40_844 : Index := 40#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1386 : Index := Scalar.indexCast v382
  let c0_845 : Index := 0#32
  ![1, v1385.toNat, 40, v1386.toNat, 0]
def k0_off1288 (v330 : BitVec 32) : Fin 5 → Nat :=
  let c1_846 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1390 : Index := Scalar.indexCast v347
  let c41 : Index := 41#32
  let c0_847 : Index := 0#32
  let c0_848 : Index := 0#32
  ![1, v1390.toNat, 41, 0, 0]
def k0_off1289 (v1 : BitVec 32) (k0_t34 : Fin (k0_t34_loop v1).trips) (v228 : BitVec 32) (v257 : BitVec 32) (k0_t45 : Fin (k0_t45_loop v228 v257).trips) : Fin 5 → Nat :=
  let c1_851 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1407 : Index := Scalar.indexCast v226
  let c41_852 : Index := 41#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1408 : Index := Scalar.indexCast v382
  let c0_853 : Index := 0#32
  ![1, v1407.toNat, 41, v1408.toNat, 0]
def k0_off1290 (v1 : BitVec 32) (k0_t34 : Fin (k0_t34_loop v1).trips) (v228 : BitVec 32) (v257 : BitVec 32) (k0_t45 : Fin (k0_t45_loop v228 v257).trips) : Fin 5 → Nat :=
  let c1_854 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1412 : Index := Scalar.indexCast v226
  let c0_i32_433 : BitVec 32 := 0#32
  let c1_i32_435 : BitVec 32 := 1#32
  let arg19 : BitVec 32 := Scf.iv c0_i32_433 c1_i32_435 k0_t45
  let v1413 : Index := Scalar.indexCast arg19
  let c672 : Index := 672#32
  let c0_855 : Index := 0#32
  ![1, v1412.toNat, v1413.toNat, 672, 0]
def k0_off1291 (v330 : BitVec 32) : Fin 5 → Nat :=
  let c1_856 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1417 : Index := Scalar.indexCast v347
  let c42 : Index := 42#32
  let c0_857 : Index := 0#32
  let c0_858 : Index := 0#32
  ![1, v1417.toNat, 42, 0, 0]
def k0_off1292 (v1 : BitVec 32) (k0_t34 : Fin (k0_t34_loop v1).trips) (v228 : BitVec 32) (v257 : BitVec 32) (k0_t45 : Fin (k0_t45_loop v228 v257).trips) : Fin 5 → Nat :=
  let c1_861 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1434 : Index := Scalar.indexCast v226
  let c42_862 : Index := 42#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1435 : Index := Scalar.indexCast v382
  let c0_863 : Index := 0#32
  ![1, v1434.toNat, 42, v1435.toNat, 0]
def k0_off1293 (v330 : BitVec 32) : Fin 5 → Nat :=
  let c1_864 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1439 : Index := Scalar.indexCast v347
  let c43 : Index := 43#32
  let c0_865 : Index := 0#32
  let c0_866 : Index := 0#32
  ![1, v1439.toNat, 43, 0, 0]
def k0_off1294 (v1 : BitVec 32) (k0_t34 : Fin (k0_t34_loop v1).trips) (v228 : BitVec 32) (v257 : BitVec 32) (k0_t45 : Fin (k0_t45_loop v228 v257).trips) : Fin 5 → Nat :=
  let c1_869 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1456 : Index := Scalar.indexCast v226
  let c43_870 : Index := 43#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1457 : Index := Scalar.indexCast v382
  let c0_871 : Index := 0#32
  ![1, v1456.toNat, 43, v1457.toNat, 0]
def k0_off1295 (v1 : BitVec 32) (k0_t34 : Fin (k0_t34_loop v1).trips) (v228 : BitVec 32) (v257 : BitVec 32) (k0_t45 : Fin (k0_t45_loop v228 v257).trips) : Fin 5 → Nat :=
  let c1_872 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1461 : Index := Scalar.indexCast v226
  let c0_i32_433 : BitVec 32 := 0#32
  let c1_i32_435 : BitVec 32 := 1#32
  let arg19 : BitVec 32 := Scf.iv c0_i32_433 c1_i32_435 k0_t45
  let v1462 : Index := Scalar.indexCast arg19
  let c704 : Index := 704#32
  let c0_873 : Index := 0#32
  ![1, v1461.toNat, v1462.toNat, 704, 0]
def k0_off1296 (v330 : BitVec 32) : Fin 5 → Nat :=
  let c1_874 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1466 : Index := Scalar.indexCast v347
  let c44 : Index := 44#32
  let c0_875 : Index := 0#32
  let c0_876 : Index := 0#32
  ![1, v1466.toNat, 44, 0, 0]
def k0_off1297 (v1 : BitVec 32) (k0_t34 : Fin (k0_t34_loop v1).trips) (v228 : BitVec 32) (v257 : BitVec 32) (k0_t45 : Fin (k0_t45_loop v228 v257).trips) : Fin 5 → Nat :=
  let c1_879 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1483 : Index := Scalar.indexCast v226
  let c44_880 : Index := 44#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1484 : Index := Scalar.indexCast v382
  let c0_881 : Index := 0#32
  ![1, v1483.toNat, 44, v1484.toNat, 0]
def k0_off1298 (v330 : BitVec 32) : Fin 5 → Nat :=
  let c1_882 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1488 : Index := Scalar.indexCast v347
  let c45 : Index := 45#32
  let c0_883 : Index := 0#32
  let c0_884 : Index := 0#32
  ![1, v1488.toNat, 45, 0, 0]
def k0_off1299 (v1 : BitVec 32) (k0_t34 : Fin (k0_t34_loop v1).trips) (v228 : BitVec 32) (v257 : BitVec 32) (k0_t45 : Fin (k0_t45_loop v228 v257).trips) : Fin 5 → Nat :=
  let c1_887 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1505 : Index := Scalar.indexCast v226
  let c45_888 : Index := 45#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1506 : Index := Scalar.indexCast v382
  let c0_889 : Index := 0#32
  ![1, v1505.toNat, 45, v1506.toNat, 0]
def k0_off1300 (v1 : BitVec 32) (k0_t34 : Fin (k0_t34_loop v1).trips) (v228 : BitVec 32) (v257 : BitVec 32) (k0_t45 : Fin (k0_t45_loop v228 v257).trips) : Fin 5 → Nat :=
  let c1_890 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1510 : Index := Scalar.indexCast v226
  let c0_i32_433 : BitVec 32 := 0#32
  let c1_i32_435 : BitVec 32 := 1#32
  let arg19 : BitVec 32 := Scf.iv c0_i32_433 c1_i32_435 k0_t45
  let v1511 : Index := Scalar.indexCast arg19
  let c736 : Index := 736#32
  let c0_891 : Index := 0#32
  ![1, v1510.toNat, v1511.toNat, 736, 0]
def k0_off1301 (v330 : BitVec 32) : Fin 5 → Nat :=
  let c1_892 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1515 : Index := Scalar.indexCast v347
  let c46 : Index := 46#32
  let c0_893 : Index := 0#32
  let c0_894 : Index := 0#32
  ![1, v1515.toNat, 46, 0, 0]
def k0_off1302 (v1 : BitVec 32) (k0_t34 : Fin (k0_t34_loop v1).trips) (v228 : BitVec 32) (v257 : BitVec 32) (k0_t45 : Fin (k0_t45_loop v228 v257).trips) : Fin 5 → Nat :=
  let c1_897 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1532 : Index := Scalar.indexCast v226
  let c46_898 : Index := 46#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1533 : Index := Scalar.indexCast v382
  let c0_899 : Index := 0#32
  ![1, v1532.toNat, 46, v1533.toNat, 0]
def k0_off1303 (v330 : BitVec 32) : Fin 5 → Nat :=
  let c1_900 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1537 : Index := Scalar.indexCast v347
  let c47 : Index := 47#32
  let c0_901 : Index := 0#32
  let c0_902 : Index := 0#32
  ![1, v1537.toNat, 47, 0, 0]
def k0_off1304 (v1 : BitVec 32) (k0_t34 : Fin (k0_t34_loop v1).trips) (v228 : BitVec 32) (v257 : BitVec 32) (k0_t45 : Fin (k0_t45_loop v228 v257).trips) : Fin 5 → Nat :=
  let c1_905 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1554 : Index := Scalar.indexCast v226
  let c47_906 : Index := 47#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1555 : Index := Scalar.indexCast v382
  let c0_907 : Index := 0#32
  ![1, v1554.toNat, 47, v1555.toNat, 0]
def k0_off1305 (v1 : BitVec 32) (k0_t34 : Fin (k0_t34_loop v1).trips) (v228 : BitVec 32) (v257 : BitVec 32) (k0_t45 : Fin (k0_t45_loop v228 v257).trips) : Fin 5 → Nat :=
  let c1_908 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1559 : Index := Scalar.indexCast v226
  let c0_i32_433 : BitVec 32 := 0#32
  let c1_i32_435 : BitVec 32 := 1#32
  let arg19 : BitVec 32 := Scf.iv c0_i32_433 c1_i32_435 k0_t45
  let v1560 : Index := Scalar.indexCast arg19
  let c768 : Index := 768#32
  let c0_909 : Index := 0#32
  ![1, v1559.toNat, v1560.toNat, 768, 0]
def k0_off1306 (v330 : BitVec 32) : Fin 5 → Nat :=
  let c1_910 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1564 : Index := Scalar.indexCast v347
  let c48 : Index := 48#32
  let c0_911 : Index := 0#32
  let c0_912 : Index := 0#32
  ![1, v1564.toNat, 48, 0, 0]
def k0_off1307 (v1 : BitVec 32) (k0_t34 : Fin (k0_t34_loop v1).trips) (v228 : BitVec 32) (v257 : BitVec 32) (k0_t45 : Fin (k0_t45_loop v228 v257).trips) : Fin 5 → Nat :=
  let c1_915 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1581 : Index := Scalar.indexCast v226
  let c48_916 : Index := 48#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1582 : Index := Scalar.indexCast v382
  let c0_917 : Index := 0#32
  ![1, v1581.toNat, 48, v1582.toNat, 0]
def k0_off1308 (v330 : BitVec 32) : Fin 5 → Nat :=
  let c1_918 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1586 : Index := Scalar.indexCast v347
  let c49 : Index := 49#32
  let c0_919 : Index := 0#32
  let c0_920 : Index := 0#32
  ![1, v1586.toNat, 49, 0, 0]
def k0_off1309 (v1 : BitVec 32) (k0_t34 : Fin (k0_t34_loop v1).trips) (v228 : BitVec 32) (v257 : BitVec 32) (k0_t45 : Fin (k0_t45_loop v228 v257).trips) : Fin 5 → Nat :=
  let c1_923 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1603 : Index := Scalar.indexCast v226
  let c49_924 : Index := 49#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1604 : Index := Scalar.indexCast v382
  let c0_925 : Index := 0#32
  ![1, v1603.toNat, 49, v1604.toNat, 0]
def k0_off1310 (v1 : BitVec 32) (k0_t34 : Fin (k0_t34_loop v1).trips) (v228 : BitVec 32) (v257 : BitVec 32) (k0_t45 : Fin (k0_t45_loop v228 v257).trips) : Fin 5 → Nat :=
  let c1_926 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1608 : Index := Scalar.indexCast v226
  let c0_i32_433 : BitVec 32 := 0#32
  let c1_i32_435 : BitVec 32 := 1#32
  let arg19 : BitVec 32 := Scf.iv c0_i32_433 c1_i32_435 k0_t45
  let v1609 : Index := Scalar.indexCast arg19
  let c800 : Index := 800#32
  let c0_927 : Index := 0#32
  ![1, v1608.toNat, v1609.toNat, 800, 0]
def k0_off1311 (v330 : BitVec 32) : Fin 5 → Nat :=
  let c1_928 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1613 : Index := Scalar.indexCast v347
  let c50 : Index := 50#32
  let c0_929 : Index := 0#32
  let c0_930 : Index := 0#32
  ![1, v1613.toNat, 50, 0, 0]
def k0_off1312 (v1 : BitVec 32) (k0_t34 : Fin (k0_t34_loop v1).trips) (v228 : BitVec 32) (v257 : BitVec 32) (k0_t45 : Fin (k0_t45_loop v228 v257).trips) : Fin 5 → Nat :=
  let c1_933 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1630 : Index := Scalar.indexCast v226
  let c50_934 : Index := 50#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1631 : Index := Scalar.indexCast v382
  let c0_935 : Index := 0#32
  ![1, v1630.toNat, 50, v1631.toNat, 0]
def k0_off1313 (v330 : BitVec 32) : Fin 5 → Nat :=
  let c1_936 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1635 : Index := Scalar.indexCast v347
  let c51 : Index := 51#32
  let c0_937 : Index := 0#32
  let c0_938 : Index := 0#32
  ![1, v1635.toNat, 51, 0, 0]
def k0_off1314 (v1 : BitVec 32) (k0_t34 : Fin (k0_t34_loop v1).trips) (v228 : BitVec 32) (v257 : BitVec 32) (k0_t45 : Fin (k0_t45_loop v228 v257).trips) : Fin 5 → Nat :=
  let c1_941 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1652 : Index := Scalar.indexCast v226
  let c51_942 : Index := 51#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1653 : Index := Scalar.indexCast v382
  let c0_943 : Index := 0#32
  ![1, v1652.toNat, 51, v1653.toNat, 0]
def k0_off1315 (v1 : BitVec 32) (k0_t34 : Fin (k0_t34_loop v1).trips) (v228 : BitVec 32) (v257 : BitVec 32) (k0_t45 : Fin (k0_t45_loop v228 v257).trips) : Fin 5 → Nat :=
  let c1_944 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1657 : Index := Scalar.indexCast v226
  let c0_i32_433 : BitVec 32 := 0#32
  let c1_i32_435 : BitVec 32 := 1#32
  let arg19 : BitVec 32 := Scf.iv c0_i32_433 c1_i32_435 k0_t45
  let v1658 : Index := Scalar.indexCast arg19
  let c832 : Index := 832#32
  let c0_945 : Index := 0#32
  ![1, v1657.toNat, v1658.toNat, 832, 0]
def k0_off1316 (v330 : BitVec 32) : Fin 5 → Nat :=
  let c1_946 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1662 : Index := Scalar.indexCast v347
  let c52 : Index := 52#32
  let c0_947 : Index := 0#32
  let c0_948 : Index := 0#32
  ![1, v1662.toNat, 52, 0, 0]
def k0_off1317 (v1 : BitVec 32) (k0_t34 : Fin (k0_t34_loop v1).trips) (v228 : BitVec 32) (v257 : BitVec 32) (k0_t45 : Fin (k0_t45_loop v228 v257).trips) : Fin 5 → Nat :=
  let c1_951 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1679 : Index := Scalar.indexCast v226
  let c52_952 : Index := 52#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1680 : Index := Scalar.indexCast v382
  let c0_953 : Index := 0#32
  ![1, v1679.toNat, 52, v1680.toNat, 0]
def k0_off1318 (v330 : BitVec 32) : Fin 5 → Nat :=
  let c1_954 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1684 : Index := Scalar.indexCast v347
  let c53 : Index := 53#32
  let c0_955 : Index := 0#32
  let c0_956 : Index := 0#32
  ![1, v1684.toNat, 53, 0, 0]
def k0_off1319 (v1 : BitVec 32) (k0_t34 : Fin (k0_t34_loop v1).trips) (v228 : BitVec 32) (v257 : BitVec 32) (k0_t45 : Fin (k0_t45_loop v228 v257).trips) : Fin 5 → Nat :=
  let c1_959 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1701 : Index := Scalar.indexCast v226
  let c53_960 : Index := 53#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1702 : Index := Scalar.indexCast v382
  let c0_961 : Index := 0#32
  ![1, v1701.toNat, 53, v1702.toNat, 0]
def k0_off1320 (v1 : BitVec 32) (k0_t34 : Fin (k0_t34_loop v1).trips) (v228 : BitVec 32) (v257 : BitVec 32) (k0_t45 : Fin (k0_t45_loop v228 v257).trips) : Fin 5 → Nat :=
  let c1_962 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1706 : Index := Scalar.indexCast v226
  let c0_i32_433 : BitVec 32 := 0#32
  let c1_i32_435 : BitVec 32 := 1#32
  let arg19 : BitVec 32 := Scf.iv c0_i32_433 c1_i32_435 k0_t45
  let v1707 : Index := Scalar.indexCast arg19
  let c864 : Index := 864#32
  let c0_963 : Index := 0#32
  ![1, v1706.toNat, v1707.toNat, 864, 0]
def k0_off1321 (v330 : BitVec 32) : Fin 5 → Nat :=
  let c1_964 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1711 : Index := Scalar.indexCast v347
  let c54 : Index := 54#32
  let c0_965 : Index := 0#32
  let c0_966 : Index := 0#32
  ![1, v1711.toNat, 54, 0, 0]
def k0_off1322 (v1 : BitVec 32) (k0_t34 : Fin (k0_t34_loop v1).trips) (v228 : BitVec 32) (v257 : BitVec 32) (k0_t45 : Fin (k0_t45_loop v228 v257).trips) : Fin 5 → Nat :=
  let c1_969 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1728 : Index := Scalar.indexCast v226
  let c54_970 : Index := 54#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1729 : Index := Scalar.indexCast v382
  let c0_971 : Index := 0#32
  ![1, v1728.toNat, 54, v1729.toNat, 0]
def k0_off1323 (v330 : BitVec 32) : Fin 5 → Nat :=
  let c1_972 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1733 : Index := Scalar.indexCast v347
  let c55 : Index := 55#32
  let c0_973 : Index := 0#32
  let c0_974 : Index := 0#32
  ![1, v1733.toNat, 55, 0, 0]
def k0_off1324 (v1 : BitVec 32) (k0_t34 : Fin (k0_t34_loop v1).trips) (v228 : BitVec 32) (v257 : BitVec 32) (k0_t45 : Fin (k0_t45_loop v228 v257).trips) : Fin 5 → Nat :=
  let c1_977 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1750 : Index := Scalar.indexCast v226
  let c55_978 : Index := 55#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1751 : Index := Scalar.indexCast v382
  let c0_979 : Index := 0#32
  ![1, v1750.toNat, 55, v1751.toNat, 0]
def k0_off1325 (v1 : BitVec 32) (k0_t34 : Fin (k0_t34_loop v1).trips) (v228 : BitVec 32) (v257 : BitVec 32) (k0_t45 : Fin (k0_t45_loop v228 v257).trips) : Fin 5 → Nat :=
  let c1_980 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1755 : Index := Scalar.indexCast v226
  let c0_i32_433 : BitVec 32 := 0#32
  let c1_i32_435 : BitVec 32 := 1#32
  let arg19 : BitVec 32 := Scf.iv c0_i32_433 c1_i32_435 k0_t45
  let v1756 : Index := Scalar.indexCast arg19
  let c896 : Index := 896#32
  let c0_981 : Index := 0#32
  ![1, v1755.toNat, v1756.toNat, 896, 0]
def k0_off1326 (v330 : BitVec 32) : Fin 5 → Nat :=
  let c1_982 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1760 : Index := Scalar.indexCast v347
  let c56 : Index := 56#32
  let c0_983 : Index := 0#32
  let c0_984 : Index := 0#32
  ![1, v1760.toNat, 56, 0, 0]
def k0_off1327 (v1 : BitVec 32) (k0_t34 : Fin (k0_t34_loop v1).trips) (v228 : BitVec 32) (v257 : BitVec 32) (k0_t45 : Fin (k0_t45_loop v228 v257).trips) : Fin 5 → Nat :=
  let c1_987 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1777 : Index := Scalar.indexCast v226
  let c56_988 : Index := 56#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1778 : Index := Scalar.indexCast v382
  let c0_989 : Index := 0#32
  ![1, v1777.toNat, 56, v1778.toNat, 0]
def k0_off1328 (v330 : BitVec 32) : Fin 5 → Nat :=
  let c1_990 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1782 : Index := Scalar.indexCast v347
  let c57 : Index := 57#32
  let c0_991 : Index := 0#32
  let c0_992 : Index := 0#32
  ![1, v1782.toNat, 57, 0, 0]
def k0_off1329 (v1 : BitVec 32) (k0_t34 : Fin (k0_t34_loop v1).trips) (v228 : BitVec 32) (v257 : BitVec 32) (k0_t45 : Fin (k0_t45_loop v228 v257).trips) : Fin 5 → Nat :=
  let c1_995 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1799 : Index := Scalar.indexCast v226
  let c57_996 : Index := 57#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1800 : Index := Scalar.indexCast v382
  let c0_997 : Index := 0#32
  ![1, v1799.toNat, 57, v1800.toNat, 0]
def k0_off1330 (v1 : BitVec 32) (k0_t34 : Fin (k0_t34_loop v1).trips) (v228 : BitVec 32) (v257 : BitVec 32) (k0_t45 : Fin (k0_t45_loop v228 v257).trips) : Fin 5 → Nat :=
  let c1_998 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1804 : Index := Scalar.indexCast v226
  let c0_i32_433 : BitVec 32 := 0#32
  let c1_i32_435 : BitVec 32 := 1#32
  let arg19 : BitVec 32 := Scf.iv c0_i32_433 c1_i32_435 k0_t45
  let v1805 : Index := Scalar.indexCast arg19
  let c928 : Index := 928#32
  let c0_999 : Index := 0#32
  ![1, v1804.toNat, v1805.toNat, 928, 0]
def k0_off1331 (v330 : BitVec 32) : Fin 5 → Nat :=
  let c1_1000 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1809 : Index := Scalar.indexCast v347
  let c58 : Index := 58#32
  let c0_1001 : Index := 0#32
  let c0_1002 : Index := 0#32
  ![1, v1809.toNat, 58, 0, 0]
def k0_off1332 (v1 : BitVec 32) (k0_t34 : Fin (k0_t34_loop v1).trips) (v228 : BitVec 32) (v257 : BitVec 32) (k0_t45 : Fin (k0_t45_loop v228 v257).trips) : Fin 5 → Nat :=
  let c1_1005 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1826 : Index := Scalar.indexCast v226
  let c58_1006 : Index := 58#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1827 : Index := Scalar.indexCast v382
  let c0_1007 : Index := 0#32
  ![1, v1826.toNat, 58, v1827.toNat, 0]
def k0_off1333 (v330 : BitVec 32) : Fin 5 → Nat :=
  let c1_1008 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1831 : Index := Scalar.indexCast v347
  let c59 : Index := 59#32
  let c0_1009 : Index := 0#32
  let c0_1010 : Index := 0#32
  ![1, v1831.toNat, 59, 0, 0]
def k0_off1334 (v1 : BitVec 32) (k0_t34 : Fin (k0_t34_loop v1).trips) (v228 : BitVec 32) (v257 : BitVec 32) (k0_t45 : Fin (k0_t45_loop v228 v257).trips) : Fin 5 → Nat :=
  let c1_1013 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1848 : Index := Scalar.indexCast v226
  let c59_1014 : Index := 59#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1849 : Index := Scalar.indexCast v382
  let c0_1015 : Index := 0#32
  ![1, v1848.toNat, 59, v1849.toNat, 0]
def k0_off1335 (v1 : BitVec 32) (k0_t34 : Fin (k0_t34_loop v1).trips) (v228 : BitVec 32) (v257 : BitVec 32) (k0_t45 : Fin (k0_t45_loop v228 v257).trips) : Fin 5 → Nat :=
  let c1_1016 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1853 : Index := Scalar.indexCast v226
  let c0_i32_433 : BitVec 32 := 0#32
  let c1_i32_435 : BitVec 32 := 1#32
  let arg19 : BitVec 32 := Scf.iv c0_i32_433 c1_i32_435 k0_t45
  let v1854 : Index := Scalar.indexCast arg19
  let c960 : Index := 960#32
  let c0_1017 : Index := 0#32
  ![1, v1853.toNat, v1854.toNat, 960, 0]
def k0_off1336 (v330 : BitVec 32) : Fin 5 → Nat :=
  let c1_1018 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1858 : Index := Scalar.indexCast v347
  let c60 : Index := 60#32
  let c0_1019 : Index := 0#32
  let c0_1020 : Index := 0#32
  ![1, v1858.toNat, 60, 0, 0]
def k0_off1337 (v1 : BitVec 32) (k0_t34 : Fin (k0_t34_loop v1).trips) (v228 : BitVec 32) (v257 : BitVec 32) (k0_t45 : Fin (k0_t45_loop v228 v257).trips) : Fin 5 → Nat :=
  let c1_1023 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1875 : Index := Scalar.indexCast v226
  let c60_1024 : Index := 60#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1876 : Index := Scalar.indexCast v382
  let c0_1025 : Index := 0#32
  ![1, v1875.toNat, 60, v1876.toNat, 0]
def k0_off1338 (v330 : BitVec 32) : Fin 5 → Nat :=
  let c1_1026 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1880 : Index := Scalar.indexCast v347
  let c61 : Index := 61#32
  let c0_1027 : Index := 0#32
  let c0_1028 : Index := 0#32
  ![1, v1880.toNat, 61, 0, 0]
def k0_off1339 (v1 : BitVec 32) (k0_t34 : Fin (k0_t34_loop v1).trips) (v228 : BitVec 32) (v257 : BitVec 32) (k0_t45 : Fin (k0_t45_loop v228 v257).trips) : Fin 5 → Nat :=
  let c1_1031 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1897 : Index := Scalar.indexCast v226
  let c61_1032 : Index := 61#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1898 : Index := Scalar.indexCast v382
  let c0_1033 : Index := 0#32
  ![1, v1897.toNat, 61, v1898.toNat, 0]
def k0_off1340 (v1 : BitVec 32) (k0_t34 : Fin (k0_t34_loop v1).trips) (v228 : BitVec 32) (v257 : BitVec 32) (k0_t45 : Fin (k0_t45_loop v228 v257).trips) : Fin 5 → Nat :=
  let c1_1034 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1902 : Index := Scalar.indexCast v226
  let c0_i32_433 : BitVec 32 := 0#32
  let c1_i32_435 : BitVec 32 := 1#32
  let arg19 : BitVec 32 := Scf.iv c0_i32_433 c1_i32_435 k0_t45
  let v1903 : Index := Scalar.indexCast arg19
  let c992 : Index := 992#32
  let c0_1035 : Index := 0#32
  ![1, v1902.toNat, v1903.toNat, 992, 0]
def k0_off1341 (v330 : BitVec 32) : Fin 5 → Nat :=
  let c1_1036 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1907 : Index := Scalar.indexCast v347
  let c62 : Index := 62#32
  let c0_1037 : Index := 0#32
  let c0_1038 : Index := 0#32
  ![1, v1907.toNat, 62, 0, 0]
def k0_off1342 (v1 : BitVec 32) (k0_t34 : Fin (k0_t34_loop v1).trips) (v228 : BitVec 32) (v257 : BitVec 32) (k0_t45 : Fin (k0_t45_loop v228 v257).trips) : Fin 5 → Nat :=
  let c1_1041 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1924 : Index := Scalar.indexCast v226
  let c62_1042 : Index := 62#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1925 : Index := Scalar.indexCast v382
  let c0_1043 : Index := 0#32
  ![1, v1924.toNat, 62, v1925.toNat, 0]
def k0_off1343 (v330 : BitVec 32) : Fin 5 → Nat :=
  let c1_1044 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1929 : Index := Scalar.indexCast v347
  let c63 : Index := 63#32
  let c0_1045 : Index := 0#32
  let c0_1046 : Index := 0#32
  ![1, v1929.toNat, 63, 0, 0]
def k0_off1344 (v1 : BitVec 32) (k0_t34 : Fin (k0_t34_loop v1).trips) (v228 : BitVec 32) (v257 : BitVec 32) (k0_t45 : Fin (k0_t45_loop v228 v257).trips) : Fin 5 → Nat :=
  let c1_1049 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1946 : Index := Scalar.indexCast v226
  let c63_1050 : Index := 63#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1947 : Index := Scalar.indexCast v382
  let c0_1051 : Index := 0#32
  ![1, v1946.toNat, 63, v1947.toNat, 0]
def k0_off1345 (v1 : BitVec 32) (k0_t34 : Fin (k0_t34_loop v1).trips) (v228 : BitVec 32) (v257 : BitVec 32) (k0_t45 : Fin (k0_t45_loop v228 v257).trips) : Fin 5 → Nat :=
  let c1_1052 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1951 : Index := Scalar.indexCast v226
  let c0_i32_433 : BitVec 32 := 0#32
  let c1_i32_435 : BitVec 32 := 1#32
  let arg19 : BitVec 32 := Scf.iv c0_i32_433 c1_i32_435 k0_t45
  let v1952 : Index := Scalar.indexCast arg19
  let c1024 : Index := 1024#32
  let c0_1053 : Index := 0#32
  ![1, v1951.toNat, v1952.toNat, 1024, 0]
def k0_off1346 (v330 : BitVec 32) : Fin 5 → Nat :=
  let c1_1054 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1956 : Index := Scalar.indexCast v347
  let c64_1055 : Index := 64#32
  let c0_1056 : Index := 0#32
  let c0_1057 : Index := 0#32
  ![1, v1956.toNat, 64, 0, 0]
def k0_off1347 (v1 : BitVec 32) (k0_t34 : Fin (k0_t34_loop v1).trips) (v228 : BitVec 32) (v257 : BitVec 32) (k0_t45 : Fin (k0_t45_loop v228 v257).trips) : Fin 5 → Nat :=
  let c1_1060 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1973 : Index := Scalar.indexCast v226
  let c64_1061 : Index := 64#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1974 : Index := Scalar.indexCast v382
  let c0_1062 : Index := 0#32
  ![1, v1973.toNat, 64, v1974.toNat, 0]
def k0_off1348 (v330 : BitVec 32) : Fin 5 → Nat :=
  let c1_1063 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1978 : Index := Scalar.indexCast v347
  let c65 : Index := 65#32
  let c0_1064 : Index := 0#32
  let c0_1065 : Index := 0#32
  ![1, v1978.toNat, 65, 0, 0]
def k0_off1349 (v1 : BitVec 32) (k0_t34 : Fin (k0_t34_loop v1).trips) (v228 : BitVec 32) (v257 : BitVec 32) (k0_t45 : Fin (k0_t45_loop v228 v257).trips) : Fin 5 → Nat :=
  let c1_1068 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1995 : Index := Scalar.indexCast v226
  let c65_1069 : Index := 65#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v1996 : Index := Scalar.indexCast v382
  let c0_1070 : Index := 0#32
  ![1, v1995.toNat, 65, v1996.toNat, 0]
def k0_off1350 (v1 : BitVec 32) (k0_t34 : Fin (k0_t34_loop v1).trips) (v228 : BitVec 32) (v257 : BitVec 32) (k0_t45 : Fin (k0_t45_loop v228 v257).trips) : Fin 5 → Nat :=
  let c1_1071 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2000 : Index := Scalar.indexCast v226
  let c0_i32_433 : BitVec 32 := 0#32
  let c1_i32_435 : BitVec 32 := 1#32
  let arg19 : BitVec 32 := Scf.iv c0_i32_433 c1_i32_435 k0_t45
  let v2001 : Index := Scalar.indexCast arg19
  let c1056 : Index := 1056#32
  let c0_1072 : Index := 0#32
  ![1, v2000.toNat, v2001.toNat, 1056, 0]
def k0_off1351 (v330 : BitVec 32) : Fin 5 → Nat :=
  let c1_1073 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2005 : Index := Scalar.indexCast v347
  let c66 : Index := 66#32
  let c0_1074 : Index := 0#32
  let c0_1075 : Index := 0#32
  ![1, v2005.toNat, 66, 0, 0]
def k0_off1352 (v1 : BitVec 32) (k0_t34 : Fin (k0_t34_loop v1).trips) (v228 : BitVec 32) (v257 : BitVec 32) (k0_t45 : Fin (k0_t45_loop v228 v257).trips) : Fin 5 → Nat :=
  let c1_1078 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2022 : Index := Scalar.indexCast v226
  let c66_1079 : Index := 66#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2023 : Index := Scalar.indexCast v382
  let c0_1080 : Index := 0#32
  ![1, v2022.toNat, 66, v2023.toNat, 0]
def k0_off1353 (v330 : BitVec 32) : Fin 5 → Nat :=
  let c1_1081 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2027 : Index := Scalar.indexCast v347
  let c67 : Index := 67#32
  let c0_1082 : Index := 0#32
  let c0_1083 : Index := 0#32
  ![1, v2027.toNat, 67, 0, 0]
def k0_off1354 (v1 : BitVec 32) (k0_t34 : Fin (k0_t34_loop v1).trips) (v228 : BitVec 32) (v257 : BitVec 32) (k0_t45 : Fin (k0_t45_loop v228 v257).trips) : Fin 5 → Nat :=
  let c1_1086 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2044 : Index := Scalar.indexCast v226
  let c67_1087 : Index := 67#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2045 : Index := Scalar.indexCast v382
  let c0_1088 : Index := 0#32
  ![1, v2044.toNat, 67, v2045.toNat, 0]
def k0_off1355 (v1 : BitVec 32) (k0_t34 : Fin (k0_t34_loop v1).trips) (v228 : BitVec 32) (v257 : BitVec 32) (k0_t45 : Fin (k0_t45_loop v228 v257).trips) : Fin 5 → Nat :=
  let c1_1089 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2049 : Index := Scalar.indexCast v226
  let c0_i32_433 : BitVec 32 := 0#32
  let c1_i32_435 : BitVec 32 := 1#32
  let arg19 : BitVec 32 := Scf.iv c0_i32_433 c1_i32_435 k0_t45
  let v2050 : Index := Scalar.indexCast arg19
  let c1088 : Index := 1088#32
  let c0_1090 : Index := 0#32
  ![1, v2049.toNat, v2050.toNat, 1088, 0]
def k0_off1356 (v330 : BitVec 32) : Fin 5 → Nat :=
  let c1_1091 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2054 : Index := Scalar.indexCast v347
  let c68 : Index := 68#32
  let c0_1092 : Index := 0#32
  let c0_1093 : Index := 0#32
  ![1, v2054.toNat, 68, 0, 0]
def k0_off1357 (v1 : BitVec 32) (k0_t34 : Fin (k0_t34_loop v1).trips) (v228 : BitVec 32) (v257 : BitVec 32) (k0_t45 : Fin (k0_t45_loop v228 v257).trips) : Fin 5 → Nat :=
  let c1_1096 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2071 : Index := Scalar.indexCast v226
  let c68_1097 : Index := 68#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2072 : Index := Scalar.indexCast v382
  let c0_1098 : Index := 0#32
  ![1, v2071.toNat, 68, v2072.toNat, 0]
def k0_off1358 (v330 : BitVec 32) : Fin 5 → Nat :=
  let c1_1099 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2076 : Index := Scalar.indexCast v347
  let c69 : Index := 69#32
  let c0_1100 : Index := 0#32
  let c0_1101 : Index := 0#32
  ![1, v2076.toNat, 69, 0, 0]
def k0_off1359 (v1 : BitVec 32) (k0_t34 : Fin (k0_t34_loop v1).trips) (v228 : BitVec 32) (v257 : BitVec 32) (k0_t45 : Fin (k0_t45_loop v228 v257).trips) : Fin 5 → Nat :=
  let c1_1104 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2093 : Index := Scalar.indexCast v226
  let c69_1105 : Index := 69#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2094 : Index := Scalar.indexCast v382
  let c0_1106 : Index := 0#32
  ![1, v2093.toNat, 69, v2094.toNat, 0]
def k0_off1360 (v1 : BitVec 32) (k0_t34 : Fin (k0_t34_loop v1).trips) (v228 : BitVec 32) (v257 : BitVec 32) (k0_t45 : Fin (k0_t45_loop v228 v257).trips) : Fin 5 → Nat :=
  let c1_1107 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2098 : Index := Scalar.indexCast v226
  let c0_i32_433 : BitVec 32 := 0#32
  let c1_i32_435 : BitVec 32 := 1#32
  let arg19 : BitVec 32 := Scf.iv c0_i32_433 c1_i32_435 k0_t45
  let v2099 : Index := Scalar.indexCast arg19
  let c1120 : Index := 1120#32
  let c0_1108 : Index := 0#32
  ![1, v2098.toNat, v2099.toNat, 1120, 0]
def k0_off1361 (v330 : BitVec 32) : Fin 5 → Nat :=
  let c1_1109 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2103 : Index := Scalar.indexCast v347
  let c70 : Index := 70#32
  let c0_1110 : Index := 0#32
  let c0_1111 : Index := 0#32
  ![1, v2103.toNat, 70, 0, 0]
def k0_off1362 (v1 : BitVec 32) (k0_t34 : Fin (k0_t34_loop v1).trips) (v228 : BitVec 32) (v257 : BitVec 32) (k0_t45 : Fin (k0_t45_loop v228 v257).trips) : Fin 5 → Nat :=
  let c1_1114 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2120 : Index := Scalar.indexCast v226
  let c70_1115 : Index := 70#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2121 : Index := Scalar.indexCast v382
  let c0_1116 : Index := 0#32
  ![1, v2120.toNat, 70, v2121.toNat, 0]
def k0_off1363 (v330 : BitVec 32) : Fin 5 → Nat :=
  let c1_1117 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2125 : Index := Scalar.indexCast v347
  let c71 : Index := 71#32
  let c0_1118 : Index := 0#32
  let c0_1119 : Index := 0#32
  ![1, v2125.toNat, 71, 0, 0]
def k0_off1364 (v1 : BitVec 32) (k0_t34 : Fin (k0_t34_loop v1).trips) (v228 : BitVec 32) (v257 : BitVec 32) (k0_t45 : Fin (k0_t45_loop v228 v257).trips) : Fin 5 → Nat :=
  let c1_1122 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2142 : Index := Scalar.indexCast v226
  let c71_1123 : Index := 71#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2143 : Index := Scalar.indexCast v382
  let c0_1124 : Index := 0#32
  ![1, v2142.toNat, 71, v2143.toNat, 0]
def k0_off1365 (v1 : BitVec 32) (k0_t34 : Fin (k0_t34_loop v1).trips) (v228 : BitVec 32) (v257 : BitVec 32) (k0_t45 : Fin (k0_t45_loop v228 v257).trips) : Fin 5 → Nat :=
  let c1_1125 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2147 : Index := Scalar.indexCast v226
  let c0_i32_433 : BitVec 32 := 0#32
  let c1_i32_435 : BitVec 32 := 1#32
  let arg19 : BitVec 32 := Scf.iv c0_i32_433 c1_i32_435 k0_t45
  let v2148 : Index := Scalar.indexCast arg19
  let c1152 : Index := 1152#32
  let c0_1126 : Index := 0#32
  ![1, v2147.toNat, v2148.toNat, 1152, 0]
def k0_off1366 (v330 : BitVec 32) : Fin 5 → Nat :=
  let c1_1127 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2152 : Index := Scalar.indexCast v347
  let c72 : Index := 72#32
  let c0_1128 : Index := 0#32
  let c0_1129 : Index := 0#32
  ![1, v2152.toNat, 72, 0, 0]
def k0_off1367 (v1 : BitVec 32) (k0_t34 : Fin (k0_t34_loop v1).trips) (v228 : BitVec 32) (v257 : BitVec 32) (k0_t45 : Fin (k0_t45_loop v228 v257).trips) : Fin 5 → Nat :=
  let c1_1132 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2169 : Index := Scalar.indexCast v226
  let c72_1133 : Index := 72#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2170 : Index := Scalar.indexCast v382
  let c0_1134 : Index := 0#32
  ![1, v2169.toNat, 72, v2170.toNat, 0]
def k0_off1368 (v330 : BitVec 32) : Fin 5 → Nat :=
  let c1_1135 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2174 : Index := Scalar.indexCast v347
  let c73 : Index := 73#32
  let c0_1136 : Index := 0#32
  let c0_1137 : Index := 0#32
  ![1, v2174.toNat, 73, 0, 0]
def k0_off1369 (v1 : BitVec 32) (k0_t34 : Fin (k0_t34_loop v1).trips) (v228 : BitVec 32) (v257 : BitVec 32) (k0_t45 : Fin (k0_t45_loop v228 v257).trips) : Fin 5 → Nat :=
  let c1_1140 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2191 : Index := Scalar.indexCast v226
  let c73_1141 : Index := 73#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2192 : Index := Scalar.indexCast v382
  let c0_1142 : Index := 0#32
  ![1, v2191.toNat, 73, v2192.toNat, 0]
def k0_off1370 (v1 : BitVec 32) (k0_t34 : Fin (k0_t34_loop v1).trips) (v228 : BitVec 32) (v257 : BitVec 32) (k0_t45 : Fin (k0_t45_loop v228 v257).trips) : Fin 5 → Nat :=
  let c1_1143 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2196 : Index := Scalar.indexCast v226
  let c0_i32_433 : BitVec 32 := 0#32
  let c1_i32_435 : BitVec 32 := 1#32
  let arg19 : BitVec 32 := Scf.iv c0_i32_433 c1_i32_435 k0_t45
  let v2197 : Index := Scalar.indexCast arg19
  let c1184 : Index := 1184#32
  let c0_1144 : Index := 0#32
  ![1, v2196.toNat, v2197.toNat, 1184, 0]
def k0_off1371 (v330 : BitVec 32) : Fin 5 → Nat :=
  let c1_1145 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2201 : Index := Scalar.indexCast v347
  let c74 : Index := 74#32
  let c0_1146 : Index := 0#32
  let c0_1147 : Index := 0#32
  ![1, v2201.toNat, 74, 0, 0]
def k0_off1372 (v1 : BitVec 32) (k0_t34 : Fin (k0_t34_loop v1).trips) (v228 : BitVec 32) (v257 : BitVec 32) (k0_t45 : Fin (k0_t45_loop v228 v257).trips) : Fin 5 → Nat :=
  let c1_1150 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2218 : Index := Scalar.indexCast v226
  let c74_1151 : Index := 74#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2219 : Index := Scalar.indexCast v382
  let c0_1152 : Index := 0#32
  ![1, v2218.toNat, 74, v2219.toNat, 0]
def k0_off1373 (v330 : BitVec 32) : Fin 5 → Nat :=
  let c1_1153 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2223 : Index := Scalar.indexCast v347
  let c75 : Index := 75#32
  let c0_1154 : Index := 0#32
  let c0_1155 : Index := 0#32
  ![1, v2223.toNat, 75, 0, 0]
def k0_off1374 (v1 : BitVec 32) (k0_t34 : Fin (k0_t34_loop v1).trips) (v228 : BitVec 32) (v257 : BitVec 32) (k0_t45 : Fin (k0_t45_loop v228 v257).trips) : Fin 5 → Nat :=
  let c1_1158 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2240 : Index := Scalar.indexCast v226
  let c75_1159 : Index := 75#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2241 : Index := Scalar.indexCast v382
  let c0_1160 : Index := 0#32
  ![1, v2240.toNat, 75, v2241.toNat, 0]
def k0_off1375 (v1 : BitVec 32) (k0_t34 : Fin (k0_t34_loop v1).trips) (v228 : BitVec 32) (v257 : BitVec 32) (k0_t45 : Fin (k0_t45_loop v228 v257).trips) : Fin 5 → Nat :=
  let c1_1161 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2245 : Index := Scalar.indexCast v226
  let c0_i32_433 : BitVec 32 := 0#32
  let c1_i32_435 : BitVec 32 := 1#32
  let arg19 : BitVec 32 := Scf.iv c0_i32_433 c1_i32_435 k0_t45
  let v2246 : Index := Scalar.indexCast arg19
  let c1216 : Index := 1216#32
  let c0_1162 : Index := 0#32
  ![1, v2245.toNat, v2246.toNat, 1216, 0]
def k0_off1376 (v330 : BitVec 32) : Fin 5 → Nat :=
  let c1_1163 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2250 : Index := Scalar.indexCast v347
  let c76 : Index := 76#32
  let c0_1164 : Index := 0#32
  let c0_1165 : Index := 0#32
  ![1, v2250.toNat, 76, 0, 0]
def k0_off1377 (v1 : BitVec 32) (k0_t34 : Fin (k0_t34_loop v1).trips) (v228 : BitVec 32) (v257 : BitVec 32) (k0_t45 : Fin (k0_t45_loop v228 v257).trips) : Fin 5 → Nat :=
  let c1_1168 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2267 : Index := Scalar.indexCast v226
  let c76_1169 : Index := 76#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2268 : Index := Scalar.indexCast v382
  let c0_1170 : Index := 0#32
  ![1, v2267.toNat, 76, v2268.toNat, 0]
def k0_off1378 (v330 : BitVec 32) : Fin 5 → Nat :=
  let c1_1171 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2272 : Index := Scalar.indexCast v347
  let c77 : Index := 77#32
  let c0_1172 : Index := 0#32
  let c0_1173 : Index := 0#32
  ![1, v2272.toNat, 77, 0, 0]
def k0_off1379 (v1 : BitVec 32) (k0_t34 : Fin (k0_t34_loop v1).trips) (v228 : BitVec 32) (v257 : BitVec 32) (k0_t45 : Fin (k0_t45_loop v228 v257).trips) : Fin 5 → Nat :=
  let c1_1176 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2289 : Index := Scalar.indexCast v226
  let c77_1177 : Index := 77#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2290 : Index := Scalar.indexCast v382
  let c0_1178 : Index := 0#32
  ![1, v2289.toNat, 77, v2290.toNat, 0]
def k0_off1380 (v1 : BitVec 32) (k0_t34 : Fin (k0_t34_loop v1).trips) (v228 : BitVec 32) (v257 : BitVec 32) (k0_t45 : Fin (k0_t45_loop v228 v257).trips) : Fin 5 → Nat :=
  let c1_1179 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2294 : Index := Scalar.indexCast v226
  let c0_i32_433 : BitVec 32 := 0#32
  let c1_i32_435 : BitVec 32 := 1#32
  let arg19 : BitVec 32 := Scf.iv c0_i32_433 c1_i32_435 k0_t45
  let v2295 : Index := Scalar.indexCast arg19
  let c1248 : Index := 1248#32
  let c0_1180 : Index := 0#32
  ![1, v2294.toNat, v2295.toNat, 1248, 0]
def k0_off1381 (v330 : BitVec 32) : Fin 5 → Nat :=
  let c1_1181 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2299 : Index := Scalar.indexCast v347
  let c78 : Index := 78#32
  let c0_1182 : Index := 0#32
  let c0_1183 : Index := 0#32
  ![1, v2299.toNat, 78, 0, 0]
def k0_off1382 (v1 : BitVec 32) (k0_t34 : Fin (k0_t34_loop v1).trips) (v228 : BitVec 32) (v257 : BitVec 32) (k0_t45 : Fin (k0_t45_loop v228 v257).trips) : Fin 5 → Nat :=
  let c1_1186 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2316 : Index := Scalar.indexCast v226
  let c78_1187 : Index := 78#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2317 : Index := Scalar.indexCast v382
  let c0_1188 : Index := 0#32
  ![1, v2316.toNat, 78, v2317.toNat, 0]
def k0_off1383 (v330 : BitVec 32) : Fin 5 → Nat :=
  let c1_1189 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2321 : Index := Scalar.indexCast v347
  let c79 : Index := 79#32
  let c0_1190 : Index := 0#32
  let c0_1191 : Index := 0#32
  ![1, v2321.toNat, 79, 0, 0]
def k0_off1384 (v1 : BitVec 32) (k0_t34 : Fin (k0_t34_loop v1).trips) (v228 : BitVec 32) (v257 : BitVec 32) (k0_t45 : Fin (k0_t45_loop v228 v257).trips) : Fin 5 → Nat :=
  let c1_1194 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2338 : Index := Scalar.indexCast v226
  let c79_1195 : Index := 79#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2339 : Index := Scalar.indexCast v382
  let c0_1196 : Index := 0#32
  ![1, v2338.toNat, 79, v2339.toNat, 0]
def k0_off1385 (v1 : BitVec 32) (k0_t34 : Fin (k0_t34_loop v1).trips) (v228 : BitVec 32) (v257 : BitVec 32) (k0_t45 : Fin (k0_t45_loop v228 v257).trips) : Fin 5 → Nat :=
  let c1_1197 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2343 : Index := Scalar.indexCast v226
  let c0_i32_433 : BitVec 32 := 0#32
  let c1_i32_435 : BitVec 32 := 1#32
  let arg19 : BitVec 32 := Scf.iv c0_i32_433 c1_i32_435 k0_t45
  let v2344 : Index := Scalar.indexCast arg19
  let c1280 : Index := 1280#32
  let c0_1198 : Index := 0#32
  ![1, v2343.toNat, v2344.toNat, 1280, 0]
def k0_off1386 (v330 : BitVec 32) : Fin 5 → Nat :=
  let c1_1199 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2348 : Index := Scalar.indexCast v347
  let c80 : Index := 80#32
  let c0_1200 : Index := 0#32
  let c0_1201 : Index := 0#32
  ![1, v2348.toNat, 80, 0, 0]
def k0_off1387 (v1 : BitVec 32) (k0_t34 : Fin (k0_t34_loop v1).trips) (v228 : BitVec 32) (v257 : BitVec 32) (k0_t45 : Fin (k0_t45_loop v228 v257).trips) : Fin 5 → Nat :=
  let c1_1204 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2365 : Index := Scalar.indexCast v226
  let c80_1205 : Index := 80#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2366 : Index := Scalar.indexCast v382
  let c0_1206 : Index := 0#32
  ![1, v2365.toNat, 80, v2366.toNat, 0]
def k0_off1388 (v330 : BitVec 32) : Fin 5 → Nat :=
  let c1_1207 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2370 : Index := Scalar.indexCast v347
  let c81 : Index := 81#32
  let c0_1208 : Index := 0#32
  let c0_1209 : Index := 0#32
  ![1, v2370.toNat, 81, 0, 0]
def k0_off1389 (v1 : BitVec 32) (k0_t34 : Fin (k0_t34_loop v1).trips) (v228 : BitVec 32) (v257 : BitVec 32) (k0_t45 : Fin (k0_t45_loop v228 v257).trips) : Fin 5 → Nat :=
  let c1_1212 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2387 : Index := Scalar.indexCast v226
  let c81_1213 : Index := 81#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2388 : Index := Scalar.indexCast v382
  let c0_1214 : Index := 0#32
  ![1, v2387.toNat, 81, v2388.toNat, 0]
def k0_off1390 (v1 : BitVec 32) (k0_t34 : Fin (k0_t34_loop v1).trips) (v228 : BitVec 32) (v257 : BitVec 32) (k0_t45 : Fin (k0_t45_loop v228 v257).trips) : Fin 5 → Nat :=
  let c1_1215 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2392 : Index := Scalar.indexCast v226
  let c0_i32_433 : BitVec 32 := 0#32
  let c1_i32_435 : BitVec 32 := 1#32
  let arg19 : BitVec 32 := Scf.iv c0_i32_433 c1_i32_435 k0_t45
  let v2393 : Index := Scalar.indexCast arg19
  let c1312 : Index := 1312#32
  let c0_1216 : Index := 0#32
  ![1, v2392.toNat, v2393.toNat, 1312, 0]
def k0_off1391 (v330 : BitVec 32) : Fin 5 → Nat :=
  let c1_1217 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2397 : Index := Scalar.indexCast v347
  let c82 : Index := 82#32
  let c0_1218 : Index := 0#32
  let c0_1219 : Index := 0#32
  ![1, v2397.toNat, 82, 0, 0]
def k0_off1392 (v1 : BitVec 32) (k0_t34 : Fin (k0_t34_loop v1).trips) (v228 : BitVec 32) (v257 : BitVec 32) (k0_t45 : Fin (k0_t45_loop v228 v257).trips) : Fin 5 → Nat :=
  let c1_1222 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2414 : Index := Scalar.indexCast v226
  let c82_1223 : Index := 82#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2415 : Index := Scalar.indexCast v382
  let c0_1224 : Index := 0#32
  ![1, v2414.toNat, 82, v2415.toNat, 0]
def k0_off1393 (v330 : BitVec 32) : Fin 5 → Nat :=
  let c1_1225 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2419 : Index := Scalar.indexCast v347
  let c83 : Index := 83#32
  let c0_1226 : Index := 0#32
  let c0_1227 : Index := 0#32
  ![1, v2419.toNat, 83, 0, 0]
def k0_off1394 (v1 : BitVec 32) (k0_t34 : Fin (k0_t34_loop v1).trips) (v228 : BitVec 32) (v257 : BitVec 32) (k0_t45 : Fin (k0_t45_loop v228 v257).trips) : Fin 5 → Nat :=
  let c1_1230 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2436 : Index := Scalar.indexCast v226
  let c83_1231 : Index := 83#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2437 : Index := Scalar.indexCast v382
  let c0_1232 : Index := 0#32
  ![1, v2436.toNat, 83, v2437.toNat, 0]
def k0_off1395 (v1 : BitVec 32) (k0_t34 : Fin (k0_t34_loop v1).trips) (v228 : BitVec 32) (v257 : BitVec 32) (k0_t45 : Fin (k0_t45_loop v228 v257).trips) : Fin 5 → Nat :=
  let c1_1233 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2441 : Index := Scalar.indexCast v226
  let c0_i32_433 : BitVec 32 := 0#32
  let c1_i32_435 : BitVec 32 := 1#32
  let arg19 : BitVec 32 := Scf.iv c0_i32_433 c1_i32_435 k0_t45
  let v2442 : Index := Scalar.indexCast arg19
  let c1344 : Index := 1344#32
  let c0_1234 : Index := 0#32
  ![1, v2441.toNat, v2442.toNat, 1344, 0]
def k0_off1396 (v330 : BitVec 32) : Fin 5 → Nat :=
  let c1_1235 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2446 : Index := Scalar.indexCast v347
  let c84 : Index := 84#32
  let c0_1236 : Index := 0#32
  let c0_1237 : Index := 0#32
  ![1, v2446.toNat, 84, 0, 0]
def k0_off1397 (v1 : BitVec 32) (k0_t34 : Fin (k0_t34_loop v1).trips) (v228 : BitVec 32) (v257 : BitVec 32) (k0_t45 : Fin (k0_t45_loop v228 v257).trips) : Fin 5 → Nat :=
  let c1_1240 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2463 : Index := Scalar.indexCast v226
  let c84_1241 : Index := 84#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2464 : Index := Scalar.indexCast v382
  let c0_1242 : Index := 0#32
  ![1, v2463.toNat, 84, v2464.toNat, 0]
def k0_off1398 (v330 : BitVec 32) : Fin 5 → Nat :=
  let c1_1243 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2468 : Index := Scalar.indexCast v347
  let c85 : Index := 85#32
  let c0_1244 : Index := 0#32
  let c0_1245 : Index := 0#32
  ![1, v2468.toNat, 85, 0, 0]
def k0_off1399 (v1 : BitVec 32) (k0_t34 : Fin (k0_t34_loop v1).trips) (v228 : BitVec 32) (v257 : BitVec 32) (k0_t45 : Fin (k0_t45_loop v228 v257).trips) : Fin 5 → Nat :=
  let c1_1248 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2485 : Index := Scalar.indexCast v226
  let c85_1249 : Index := 85#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2486 : Index := Scalar.indexCast v382
  let c0_1250 : Index := 0#32
  ![1, v2485.toNat, 85, v2486.toNat, 0]
def k0_off1400 (v1 : BitVec 32) (k0_t34 : Fin (k0_t34_loop v1).trips) (v228 : BitVec 32) (v257 : BitVec 32) (k0_t45 : Fin (k0_t45_loop v228 v257).trips) : Fin 5 → Nat :=
  let c1_1251 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2490 : Index := Scalar.indexCast v226
  let c0_i32_433 : BitVec 32 := 0#32
  let c1_i32_435 : BitVec 32 := 1#32
  let arg19 : BitVec 32 := Scf.iv c0_i32_433 c1_i32_435 k0_t45
  let v2491 : Index := Scalar.indexCast arg19
  let c1376 : Index := 1376#32
  let c0_1252 : Index := 0#32
  ![1, v2490.toNat, v2491.toNat, 1376, 0]
def k0_off1401 (v330 : BitVec 32) : Fin 5 → Nat :=
  let c1_1253 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2495 : Index := Scalar.indexCast v347
  let c86 : Index := 86#32
  let c0_1254 : Index := 0#32
  let c0_1255 : Index := 0#32
  ![1, v2495.toNat, 86, 0, 0]
def k0_off1402 (v1 : BitVec 32) (k0_t34 : Fin (k0_t34_loop v1).trips) (v228 : BitVec 32) (v257 : BitVec 32) (k0_t45 : Fin (k0_t45_loop v228 v257).trips) : Fin 5 → Nat :=
  let c1_1258 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2512 : Index := Scalar.indexCast v226
  let c86_1259 : Index := 86#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2513 : Index := Scalar.indexCast v382
  let c0_1260 : Index := 0#32
  ![1, v2512.toNat, 86, v2513.toNat, 0]
def k0_off1403 (v330 : BitVec 32) : Fin 5 → Nat :=
  let c1_1261 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2517 : Index := Scalar.indexCast v347
  let c87 : Index := 87#32
  let c0_1262 : Index := 0#32
  let c0_1263 : Index := 0#32
  ![1, v2517.toNat, 87, 0, 0]
def k0_off1404 (v1 : BitVec 32) (k0_t34 : Fin (k0_t34_loop v1).trips) (v228 : BitVec 32) (v257 : BitVec 32) (k0_t45 : Fin (k0_t45_loop v228 v257).trips) : Fin 5 → Nat :=
  let c1_1266 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2534 : Index := Scalar.indexCast v226
  let c87_1267 : Index := 87#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2535 : Index := Scalar.indexCast v382
  let c0_1268 : Index := 0#32
  ![1, v2534.toNat, 87, v2535.toNat, 0]
def k0_off1405 (v1 : BitVec 32) (k0_t34 : Fin (k0_t34_loop v1).trips) (v228 : BitVec 32) (v257 : BitVec 32) (k0_t45 : Fin (k0_t45_loop v228 v257).trips) : Fin 5 → Nat :=
  let c1_1269 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2539 : Index := Scalar.indexCast v226
  let c0_i32_433 : BitVec 32 := 0#32
  let c1_i32_435 : BitVec 32 := 1#32
  let arg19 : BitVec 32 := Scf.iv c0_i32_433 c1_i32_435 k0_t45
  let v2540 : Index := Scalar.indexCast arg19
  let c1408 : Index := 1408#32
  let c0_1270 : Index := 0#32
  ![1, v2539.toNat, v2540.toNat, 1408, 0]
def k0_off1406 (v330 : BitVec 32) : Fin 5 → Nat :=
  let c1_1271 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2544 : Index := Scalar.indexCast v347
  let c88 : Index := 88#32
  let c0_1272 : Index := 0#32
  let c0_1273 : Index := 0#32
  ![1, v2544.toNat, 88, 0, 0]
def k0_off1407 (v1 : BitVec 32) (k0_t34 : Fin (k0_t34_loop v1).trips) (v228 : BitVec 32) (v257 : BitVec 32) (k0_t45 : Fin (k0_t45_loop v228 v257).trips) : Fin 5 → Nat :=
  let c1_1276 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2561 : Index := Scalar.indexCast v226
  let c88_1277 : Index := 88#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2562 : Index := Scalar.indexCast v382
  let c0_1278 : Index := 0#32
  ![1, v2561.toNat, 88, v2562.toNat, 0]
def k0_off1408 (v330 : BitVec 32) : Fin 5 → Nat :=
  let c1_1279 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2566 : Index := Scalar.indexCast v347
  let c89 : Index := 89#32
  let c0_1280 : Index := 0#32
  let c0_1281 : Index := 0#32
  ![1, v2566.toNat, 89, 0, 0]
def k0_off1409 (v1 : BitVec 32) (k0_t34 : Fin (k0_t34_loop v1).trips) (v228 : BitVec 32) (v257 : BitVec 32) (k0_t45 : Fin (k0_t45_loop v228 v257).trips) : Fin 5 → Nat :=
  let c1_1284 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2583 : Index := Scalar.indexCast v226
  let c89_1285 : Index := 89#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2584 : Index := Scalar.indexCast v382
  let c0_1286 : Index := 0#32
  ![1, v2583.toNat, 89, v2584.toNat, 0]
def k0_off1410 (v1 : BitVec 32) (k0_t34 : Fin (k0_t34_loop v1).trips) (v228 : BitVec 32) (v257 : BitVec 32) (k0_t45 : Fin (k0_t45_loop v228 v257).trips) : Fin 5 → Nat :=
  let c1_1287 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2588 : Index := Scalar.indexCast v226
  let c0_i32_433 : BitVec 32 := 0#32
  let c1_i32_435 : BitVec 32 := 1#32
  let arg19 : BitVec 32 := Scf.iv c0_i32_433 c1_i32_435 k0_t45
  let v2589 : Index := Scalar.indexCast arg19
  let c1440 : Index := 1440#32
  let c0_1288 : Index := 0#32
  ![1, v2588.toNat, v2589.toNat, 1440, 0]
def k0_off1411 (v330 : BitVec 32) : Fin 5 → Nat :=
  let c1_1289 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2593 : Index := Scalar.indexCast v347
  let c90 : Index := 90#32
  let c0_1290 : Index := 0#32
  let c0_1291 : Index := 0#32
  ![1, v2593.toNat, 90, 0, 0]
def k0_off1412 (v1 : BitVec 32) (k0_t34 : Fin (k0_t34_loop v1).trips) (v228 : BitVec 32) (v257 : BitVec 32) (k0_t45 : Fin (k0_t45_loop v228 v257).trips) : Fin 5 → Nat :=
  let c1_1294 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2610 : Index := Scalar.indexCast v226
  let c90_1295 : Index := 90#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2611 : Index := Scalar.indexCast v382
  let c0_1296 : Index := 0#32
  ![1, v2610.toNat, 90, v2611.toNat, 0]
def k0_off1413 (v330 : BitVec 32) : Fin 5 → Nat :=
  let c1_1297 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2615 : Index := Scalar.indexCast v347
  let c91 : Index := 91#32
  let c0_1298 : Index := 0#32
  let c0_1299 : Index := 0#32
  ![1, v2615.toNat, 91, 0, 0]
def k0_off1414 (v1 : BitVec 32) (k0_t34 : Fin (k0_t34_loop v1).trips) (v228 : BitVec 32) (v257 : BitVec 32) (k0_t45 : Fin (k0_t45_loop v228 v257).trips) : Fin 5 → Nat :=
  let c1_1302 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2632 : Index := Scalar.indexCast v226
  let c91_1303 : Index := 91#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2633 : Index := Scalar.indexCast v382
  let c0_1304 : Index := 0#32
  ![1, v2632.toNat, 91, v2633.toNat, 0]
def k0_off1415 (v1 : BitVec 32) (k0_t34 : Fin (k0_t34_loop v1).trips) (v228 : BitVec 32) (v257 : BitVec 32) (k0_t45 : Fin (k0_t45_loop v228 v257).trips) : Fin 5 → Nat :=
  let c1_1305 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2637 : Index := Scalar.indexCast v226
  let c0_i32_433 : BitVec 32 := 0#32
  let c1_i32_435 : BitVec 32 := 1#32
  let arg19 : BitVec 32 := Scf.iv c0_i32_433 c1_i32_435 k0_t45
  let v2638 : Index := Scalar.indexCast arg19
  let c1472 : Index := 1472#32
  let c0_1306 : Index := 0#32
  ![1, v2637.toNat, v2638.toNat, 1472, 0]
def k0_off1416 (v330 : BitVec 32) : Fin 5 → Nat :=
  let c1_1307 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2642 : Index := Scalar.indexCast v347
  let c92 : Index := 92#32
  let c0_1308 : Index := 0#32
  let c0_1309 : Index := 0#32
  ![1, v2642.toNat, 92, 0, 0]
def k0_off1417 (v1 : BitVec 32) (k0_t34 : Fin (k0_t34_loop v1).trips) (v228 : BitVec 32) (v257 : BitVec 32) (k0_t45 : Fin (k0_t45_loop v228 v257).trips) : Fin 5 → Nat :=
  let c1_1312 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2659 : Index := Scalar.indexCast v226
  let c92_1313 : Index := 92#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2660 : Index := Scalar.indexCast v382
  let c0_1314 : Index := 0#32
  ![1, v2659.toNat, 92, v2660.toNat, 0]
def k0_off1418 (v330 : BitVec 32) : Fin 5 → Nat :=
  let c1_1315 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2664 : Index := Scalar.indexCast v347
  let c93 : Index := 93#32
  let c0_1316 : Index := 0#32
  let c0_1317 : Index := 0#32
  ![1, v2664.toNat, 93, 0, 0]
def k0_off1419 (v1 : BitVec 32) (k0_t34 : Fin (k0_t34_loop v1).trips) (v228 : BitVec 32) (v257 : BitVec 32) (k0_t45 : Fin (k0_t45_loop v228 v257).trips) : Fin 5 → Nat :=
  let c1_1320 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2681 : Index := Scalar.indexCast v226
  let c93_1321 : Index := 93#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2682 : Index := Scalar.indexCast v382
  let c0_1322 : Index := 0#32
  ![1, v2681.toNat, 93, v2682.toNat, 0]
def k0_off1420 (v1 : BitVec 32) (k0_t34 : Fin (k0_t34_loop v1).trips) (v228 : BitVec 32) (v257 : BitVec 32) (k0_t45 : Fin (k0_t45_loop v228 v257).trips) : Fin 5 → Nat :=
  let c1_1323 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2686 : Index := Scalar.indexCast v226
  let c0_i32_433 : BitVec 32 := 0#32
  let c1_i32_435 : BitVec 32 := 1#32
  let arg19 : BitVec 32 := Scf.iv c0_i32_433 c1_i32_435 k0_t45
  let v2687 : Index := Scalar.indexCast arg19
  let c1504 : Index := 1504#32
  let c0_1324 : Index := 0#32
  ![1, v2686.toNat, v2687.toNat, 1504, 0]
def k0_off1421 (v330 : BitVec 32) : Fin 5 → Nat :=
  let c1_1325 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2691 : Index := Scalar.indexCast v347
  let c94 : Index := 94#32
  let c0_1326 : Index := 0#32
  let c0_1327 : Index := 0#32
  ![1, v2691.toNat, 94, 0, 0]
def k0_off1422 (v1 : BitVec 32) (k0_t34 : Fin (k0_t34_loop v1).trips) (v228 : BitVec 32) (v257 : BitVec 32) (k0_t45 : Fin (k0_t45_loop v228 v257).trips) : Fin 5 → Nat :=
  let c1_1330 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2708 : Index := Scalar.indexCast v226
  let c94_1331 : Index := 94#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2709 : Index := Scalar.indexCast v382
  let c0_1332 : Index := 0#32
  ![1, v2708.toNat, 94, v2709.toNat, 0]
def k0_off1423 (v330 : BitVec 32) : Fin 5 → Nat :=
  let c1_1333 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2713 : Index := Scalar.indexCast v347
  let c95 : Index := 95#32
  let c0_1334 : Index := 0#32
  let c0_1335 : Index := 0#32
  ![1, v2713.toNat, 95, 0, 0]
def k0_off1424 (v1 : BitVec 32) (k0_t34 : Fin (k0_t34_loop v1).trips) (v228 : BitVec 32) (v257 : BitVec 32) (k0_t45 : Fin (k0_t45_loop v228 v257).trips) : Fin 5 → Nat :=
  let c1_1338 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2730 : Index := Scalar.indexCast v226
  let c95_1339 : Index := 95#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2731 : Index := Scalar.indexCast v382
  let c0_1340 : Index := 0#32
  ![1, v2730.toNat, 95, v2731.toNat, 0]
def k0_off1425 (v1 : BitVec 32) (k0_t34 : Fin (k0_t34_loop v1).trips) (v228 : BitVec 32) (v257 : BitVec 32) (k0_t45 : Fin (k0_t45_loop v228 v257).trips) : Fin 5 → Nat :=
  let c1_1341 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2735 : Index := Scalar.indexCast v226
  let c0_i32_433 : BitVec 32 := 0#32
  let c1_i32_435 : BitVec 32 := 1#32
  let arg19 : BitVec 32 := Scf.iv c0_i32_433 c1_i32_435 k0_t45
  let v2736 : Index := Scalar.indexCast arg19
  let c1536 : Index := 1536#32
  let c0_1342 : Index := 0#32
  ![1, v2735.toNat, v2736.toNat, 1536, 0]
def k0_off1426 (v330 : BitVec 32) : Fin 5 → Nat :=
  let c1_1343 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2740 : Index := Scalar.indexCast v347
  let c96_1344 : Index := 96#32
  let c0_1345 : Index := 0#32
  let c0_1346 : Index := 0#32
  ![1, v2740.toNat, 96, 0, 0]
def k0_off1427 (v1 : BitVec 32) (k0_t34 : Fin (k0_t34_loop v1).trips) (v228 : BitVec 32) (v257 : BitVec 32) (k0_t45 : Fin (k0_t45_loop v228 v257).trips) : Fin 5 → Nat :=
  let c1_1349 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2757 : Index := Scalar.indexCast v226
  let c96_1350 : Index := 96#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2758 : Index := Scalar.indexCast v382
  let c0_1351 : Index := 0#32
  ![1, v2757.toNat, 96, v2758.toNat, 0]
def k0_off1428 (v330 : BitVec 32) : Fin 5 → Nat :=
  let c1_1352 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2762 : Index := Scalar.indexCast v347
  let c97 : Index := 97#32
  let c0_1353 : Index := 0#32
  let c0_1354 : Index := 0#32
  ![1, v2762.toNat, 97, 0, 0]
def k0_off1429 (v1 : BitVec 32) (k0_t34 : Fin (k0_t34_loop v1).trips) (v228 : BitVec 32) (v257 : BitVec 32) (k0_t45 : Fin (k0_t45_loop v228 v257).trips) : Fin 5 → Nat :=
  let c1_1357 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2779 : Index := Scalar.indexCast v226
  let c97_1358 : Index := 97#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2780 : Index := Scalar.indexCast v382
  let c0_1359 : Index := 0#32
  ![1, v2779.toNat, 97, v2780.toNat, 0]
def k0_off1430 (v1 : BitVec 32) (k0_t34 : Fin (k0_t34_loop v1).trips) (v228 : BitVec 32) (v257 : BitVec 32) (k0_t45 : Fin (k0_t45_loop v228 v257).trips) : Fin 5 → Nat :=
  let c1_1360 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2784 : Index := Scalar.indexCast v226
  let c0_i32_433 : BitVec 32 := 0#32
  let c1_i32_435 : BitVec 32 := 1#32
  let arg19 : BitVec 32 := Scf.iv c0_i32_433 c1_i32_435 k0_t45
  let v2785 : Index := Scalar.indexCast arg19
  let c1568 : Index := 1568#32
  let c0_1361 : Index := 0#32
  ![1, v2784.toNat, v2785.toNat, 1568, 0]
def k0_off1431 (v330 : BitVec 32) : Fin 5 → Nat :=
  let c1_1362 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2789 : Index := Scalar.indexCast v347
  let c98 : Index := 98#32
  let c0_1363 : Index := 0#32
  let c0_1364 : Index := 0#32
  ![1, v2789.toNat, 98, 0, 0]
def k0_off1432 (v1 : BitVec 32) (k0_t34 : Fin (k0_t34_loop v1).trips) (v228 : BitVec 32) (v257 : BitVec 32) (k0_t45 : Fin (k0_t45_loop v228 v257).trips) : Fin 5 → Nat :=
  let c1_1367 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2806 : Index := Scalar.indexCast v226
  let c98_1368 : Index := 98#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2807 : Index := Scalar.indexCast v382
  let c0_1369 : Index := 0#32
  ![1, v2806.toNat, 98, v2807.toNat, 0]
def k0_off1433 (v330 : BitVec 32) : Fin 5 → Nat :=
  let c1_1370 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2811 : Index := Scalar.indexCast v347
  let c99 : Index := 99#32
  let c0_1371 : Index := 0#32
  let c0_1372 : Index := 0#32
  ![1, v2811.toNat, 99, 0, 0]
def k0_off1434 (v1 : BitVec 32) (k0_t34 : Fin (k0_t34_loop v1).trips) (v228 : BitVec 32) (v257 : BitVec 32) (k0_t45 : Fin (k0_t45_loop v228 v257).trips) : Fin 5 → Nat :=
  let c1_1375 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2828 : Index := Scalar.indexCast v226
  let c99_1376 : Index := 99#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2829 : Index := Scalar.indexCast v382
  let c0_1377 : Index := 0#32
  ![1, v2828.toNat, 99, v2829.toNat, 0]
def k0_off1435 (v1 : BitVec 32) (k0_t34 : Fin (k0_t34_loop v1).trips) (v228 : BitVec 32) (v257 : BitVec 32) (k0_t45 : Fin (k0_t45_loop v228 v257).trips) : Fin 5 → Nat :=
  let c1_1378 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2833 : Index := Scalar.indexCast v226
  let c0_i32_433 : BitVec 32 := 0#32
  let c1_i32_435 : BitVec 32 := 1#32
  let arg19 : BitVec 32 := Scf.iv c0_i32_433 c1_i32_435 k0_t45
  let v2834 : Index := Scalar.indexCast arg19
  let c1600 : Index := 1600#32
  let c0_1379 : Index := 0#32
  ![1, v2833.toNat, v2834.toNat, 1600, 0]
def k0_off1436 (v330 : BitVec 32) : Fin 5 → Nat :=
  let c1_1380 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2838 : Index := Scalar.indexCast v347
  let c100 : Index := 100#32
  let c0_1381 : Index := 0#32
  let c0_1382 : Index := 0#32
  ![1, v2838.toNat, 100, 0, 0]
def k0_off1437 (v1 : BitVec 32) (k0_t34 : Fin (k0_t34_loop v1).trips) (v228 : BitVec 32) (v257 : BitVec 32) (k0_t45 : Fin (k0_t45_loop v228 v257).trips) : Fin 5 → Nat :=
  let c1_1385 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2855 : Index := Scalar.indexCast v226
  let c100_1386 : Index := 100#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2856 : Index := Scalar.indexCast v382
  let c0_1387 : Index := 0#32
  ![1, v2855.toNat, 100, v2856.toNat, 0]
def k0_off1438 (v330 : BitVec 32) : Fin 5 → Nat :=
  let c1_1388 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2860 : Index := Scalar.indexCast v347
  let c101 : Index := 101#32
  let c0_1389 : Index := 0#32
  let c0_1390 : Index := 0#32
  ![1, v2860.toNat, 101, 0, 0]
def k0_off1439 (v1 : BitVec 32) (k0_t34 : Fin (k0_t34_loop v1).trips) (v228 : BitVec 32) (v257 : BitVec 32) (k0_t45 : Fin (k0_t45_loop v228 v257).trips) : Fin 5 → Nat :=
  let c1_1393 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2877 : Index := Scalar.indexCast v226
  let c101_1394 : Index := 101#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2878 : Index := Scalar.indexCast v382
  let c0_1395 : Index := 0#32
  ![1, v2877.toNat, 101, v2878.toNat, 0]
def k0_off1440 (v1 : BitVec 32) (k0_t34 : Fin (k0_t34_loop v1).trips) (v228 : BitVec 32) (v257 : BitVec 32) (k0_t45 : Fin (k0_t45_loop v228 v257).trips) : Fin 5 → Nat :=
  let c1_1396 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2882 : Index := Scalar.indexCast v226
  let c0_i32_433 : BitVec 32 := 0#32
  let c1_i32_435 : BitVec 32 := 1#32
  let arg19 : BitVec 32 := Scf.iv c0_i32_433 c1_i32_435 k0_t45
  let v2883 : Index := Scalar.indexCast arg19
  let c1632 : Index := 1632#32
  let c0_1397 : Index := 0#32
  ![1, v2882.toNat, v2883.toNat, 1632, 0]
def k0_off1441 (v330 : BitVec 32) : Fin 5 → Nat :=
  let c1_1398 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2887 : Index := Scalar.indexCast v347
  let c102 : Index := 102#32
  let c0_1399 : Index := 0#32
  let c0_1400 : Index := 0#32
  ![1, v2887.toNat, 102, 0, 0]
def k0_off1442 (v1 : BitVec 32) (k0_t34 : Fin (k0_t34_loop v1).trips) (v228 : BitVec 32) (v257 : BitVec 32) (k0_t45 : Fin (k0_t45_loop v228 v257).trips) : Fin 5 → Nat :=
  let c1_1403 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2904 : Index := Scalar.indexCast v226
  let c102_1404 : Index := 102#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2905 : Index := Scalar.indexCast v382
  let c0_1405 : Index := 0#32
  ![1, v2904.toNat, 102, v2905.toNat, 0]
def k0_off1443 (v330 : BitVec 32) : Fin 5 → Nat :=
  let c1_1406 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2909 : Index := Scalar.indexCast v347
  let c103 : Index := 103#32
  let c0_1407 : Index := 0#32
  let c0_1408 : Index := 0#32
  ![1, v2909.toNat, 103, 0, 0]
def k0_off1444 (v1 : BitVec 32) (k0_t34 : Fin (k0_t34_loop v1).trips) (v228 : BitVec 32) (v257 : BitVec 32) (k0_t45 : Fin (k0_t45_loop v228 v257).trips) : Fin 5 → Nat :=
  let c1_1411 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2926 : Index := Scalar.indexCast v226
  let c103_1412 : Index := 103#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2927 : Index := Scalar.indexCast v382
  let c0_1413 : Index := 0#32
  ![1, v2926.toNat, 103, v2927.toNat, 0]
def k0_off1445 (v1 : BitVec 32) (k0_t34 : Fin (k0_t34_loop v1).trips) (v228 : BitVec 32) (v257 : BitVec 32) (k0_t45 : Fin (k0_t45_loop v228 v257).trips) : Fin 5 → Nat :=
  let c1_1414 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2931 : Index := Scalar.indexCast v226
  let c0_i32_433 : BitVec 32 := 0#32
  let c1_i32_435 : BitVec 32 := 1#32
  let arg19 : BitVec 32 := Scf.iv c0_i32_433 c1_i32_435 k0_t45
  let v2932 : Index := Scalar.indexCast arg19
  let c1664 : Index := 1664#32
  let c0_1415 : Index := 0#32
  ![1, v2931.toNat, v2932.toNat, 1664, 0]
def k0_off1446 (v330 : BitVec 32) : Fin 5 → Nat :=
  let c1_1416 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2936 : Index := Scalar.indexCast v347
  let c104 : Index := 104#32
  let c0_1417 : Index := 0#32
  let c0_1418 : Index := 0#32
  ![1, v2936.toNat, 104, 0, 0]
def k0_off1447 (v1 : BitVec 32) (k0_t34 : Fin (k0_t34_loop v1).trips) (v228 : BitVec 32) (v257 : BitVec 32) (k0_t45 : Fin (k0_t45_loop v228 v257).trips) : Fin 5 → Nat :=
  let c1_1421 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2953 : Index := Scalar.indexCast v226
  let c104_1422 : Index := 104#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2954 : Index := Scalar.indexCast v382
  let c0_1423 : Index := 0#32
  ![1, v2953.toNat, 104, v2954.toNat, 0]
def k0_off1448 (v330 : BitVec 32) : Fin 5 → Nat :=
  let c1_1424 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2958 : Index := Scalar.indexCast v347
  let c105 : Index := 105#32
  let c0_1425 : Index := 0#32
  let c0_1426 : Index := 0#32
  ![1, v2958.toNat, 105, 0, 0]
def k0_off1449 (v1 : BitVec 32) (k0_t34 : Fin (k0_t34_loop v1).trips) (v228 : BitVec 32) (v257 : BitVec 32) (k0_t45 : Fin (k0_t45_loop v228 v257).trips) : Fin 5 → Nat :=
  let c1_1429 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2975 : Index := Scalar.indexCast v226
  let c105_1430 : Index := 105#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v2976 : Index := Scalar.indexCast v382
  let c0_1431 : Index := 0#32
  ![1, v2975.toNat, 105, v2976.toNat, 0]
def k0_off1450 (v1 : BitVec 32) (k0_t34 : Fin (k0_t34_loop v1).trips) (v228 : BitVec 32) (v257 : BitVec 32) (k0_t45 : Fin (k0_t45_loop v228 v257).trips) : Fin 5 → Nat :=
  let c1_1432 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2980 : Index := Scalar.indexCast v226
  let c0_i32_433 : BitVec 32 := 0#32
  let c1_i32_435 : BitVec 32 := 1#32
  let arg19 : BitVec 32 := Scf.iv c0_i32_433 c1_i32_435 k0_t45
  let v2981 : Index := Scalar.indexCast arg19
  let c1696 : Index := 1696#32
  let c0_1433 : Index := 0#32
  ![1, v2980.toNat, v2981.toNat, 1696, 0]
def k0_off1451 (v330 : BitVec 32) : Fin 5 → Nat :=
  let c1_1434 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2985 : Index := Scalar.indexCast v347
  let c106 : Index := 106#32
  let c0_1435 : Index := 0#32
  let c0_1436 : Index := 0#32
  ![1, v2985.toNat, 106, 0, 0]
def k0_off1452 (v1 : BitVec 32) (k0_t34 : Fin (k0_t34_loop v1).trips) (v228 : BitVec 32) (v257 : BitVec 32) (k0_t45 : Fin (k0_t45_loop v228 v257).trips) : Fin 5 → Nat :=
  let c1_1439 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v3002 : Index := Scalar.indexCast v226
  let c106_1440 : Index := 106#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v3003 : Index := Scalar.indexCast v382
  let c0_1441 : Index := 0#32
  ![1, v3002.toNat, 106, v3003.toNat, 0]
def k0_off1453 (v330 : BitVec 32) : Fin 5 → Nat :=
  let c1_1442 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v3007 : Index := Scalar.indexCast v347
  let c107 : Index := 107#32
  let c0_1443 : Index := 0#32
  let c0_1444 : Index := 0#32
  ![1, v3007.toNat, 107, 0, 0]

def k0_chk28_0 (v330 : BitVec 32) : Prop :=
  (∀ a, (k0_off1186 v330) a + S1x1x1x8x128.size a ≤ S2x10x108x8x128.size a) ∧
  (∀ a, (k0_off1188 v330) a + S1x1x1x8x128.size a ≤ S2x10x108x8x128.size a) ∧
  (∀ a, (k0_off1191 v330) a + S1x1x1x8x128.size a ≤ S2x10x108x8x128.size a) ∧
  (∀ a, (k0_off1193 v330) a + S1x1x1x8x128.size a ≤ S2x10x108x8x128.size a) ∧
  (∀ a, (k0_off1196 v330) a + S1x1x1x8x128.size a ≤ S2x10x108x8x128.size a) ∧
  (∀ a, (k0_off1198 v330) a + S1x1x1x8x128.size a ≤ S2x10x108x8x128.size a) ∧
  (∀ a, (k0_off1201 v330) a + S1x1x1x8x128.size a ≤ S2x10x108x8x128.size a) ∧
  (∀ a, (k0_off1203 v330) a + S1x1x1x8x128.size a ≤ S2x10x108x8x128.size a) ∧
  (∀ a, (k0_off1206 v330) a + S1x1x1x8x128.size a ≤ S2x10x108x8x128.size a) ∧
  (∀ a, (k0_off1208 v330) a + S1x1x1x8x128.size a ≤ S2x10x108x8x128.size a) ∧
  (∀ a, (k0_off1211 v330) a + S1x1x1x8x128.size a ≤ S2x10x108x8x128.size a) ∧
  (∀ a, (k0_off1213 v330) a + S1x1x1x8x128.size a ≤ S2x10x108x8x128.size a) ∧
  (∀ a, (k0_off1216 v330) a + S1x1x1x8x128.size a ≤ S2x10x108x8x128.size a) ∧
  (∀ a, (k0_off1218 v330) a + S1x1x1x8x128.size a ≤ S2x10x108x8x128.size a) ∧
  (∀ a, (k0_off1221 v330) a + S1x1x1x8x128.size a ≤ S2x10x108x8x128.size a) ∧
  (∀ a, (k0_off1223 v330) a + S1x1x1x8x128.size a ≤ S2x10x108x8x128.size a) ∧
  (∀ a, (k0_off1226 v330) a + S1x1x1x8x128.size a ≤ S2x10x108x8x128.size a) ∧
  (∀ a, (k0_off1228 v330) a + S1x1x1x8x128.size a ≤ S2x10x108x8x128.size a) ∧
  (∀ a, (k0_off1231 v330) a + S1x1x1x8x128.size a ≤ S2x10x108x8x128.size a) ∧
  (∀ a, (k0_off1233 v330) a + S1x1x1x8x128.size a ≤ S2x10x108x8x128.size a) ∧
  (∀ a, (k0_off1236 v330) a + S1x1x1x8x128.size a ≤ S2x10x108x8x128.size a) ∧
  (∀ a, (k0_off1238 v330) a + S1x1x1x8x128.size a ≤ S2x10x108x8x128.size a) ∧
  (∀ a, (k0_off1241 v330) a + S1x1x1x8x128.size a ≤ S2x10x108x8x128.size a) ∧
  (∀ a, (k0_off1243 v330) a + S1x1x1x8x128.size a ≤ S2x10x108x8x128.size a) ∧
  (∀ a, (k0_off1246 v330) a + S1x1x1x8x128.size a ≤ S2x10x108x8x128.size a) ∧
  (∀ a, (k0_off1248 v330) a + S1x1x1x8x128.size a ≤ S2x10x108x8x128.size a) ∧
  (∀ a, (k0_off1251 v330) a + S1x1x1x8x128.size a ≤ S2x10x108x8x128.size a) ∧
  (∀ a, (k0_off1253 v330) a + S1x1x1x8x128.size a ≤ S2x10x108x8x128.size a) ∧
  (∀ a, (k0_off1256 v330) a + S1x1x1x8x128.size a ≤ S2x10x108x8x128.size a) ∧
  (∀ a, (k0_off1258 v330) a + S1x1x1x8x128.size a ≤ S2x10x108x8x128.size a) ∧
  (∀ a, (k0_off1261 v330) a + S1x1x1x8x128.size a ≤ S2x10x108x8x128.size a) ∧
  (∀ a, (k0_off1263 v330) a + S1x1x1x8x128.size a ≤ S2x10x108x8x128.size a)
def k0_chk28_1 (v330 : BitVec 32) : Prop :=
  (∀ a, (k0_off1266 v330) a + S1x1x1x8x128.size a ≤ S2x10x108x8x128.size a) ∧
  (∀ a, (k0_off1268 v330) a + S1x1x1x8x128.size a ≤ S2x10x108x8x128.size a) ∧
  (∀ a, (k0_off1271 v330) a + S1x1x1x8x128.size a ≤ S2x10x108x8x128.size a) ∧
  (∀ a, (k0_off1273 v330) a + S1x1x1x8x128.size a ≤ S2x10x108x8x128.size a) ∧
  (∀ a, (k0_off1276 v330) a + S1x1x1x8x128.size a ≤ S2x10x108x8x128.size a) ∧
  (∀ a, (k0_off1278 v330) a + S1x1x1x8x128.size a ≤ S2x10x108x8x128.size a) ∧
  (∀ a, (k0_off1281 v330) a + S1x1x1x8x128.size a ≤ S2x10x108x8x128.size a) ∧
  (∀ a, (k0_off1283 v330) a + S1x1x1x8x128.size a ≤ S2x10x108x8x128.size a) ∧
  (∀ a, (k0_off1286 v330) a + S1x1x1x8x128.size a ≤ S2x10x108x8x128.size a) ∧
  (∀ a, (k0_off1288 v330) a + S1x1x1x8x128.size a ≤ S2x10x108x8x128.size a) ∧
  (∀ a, (k0_off1291 v330) a + S1x1x1x8x128.size a ≤ S2x10x108x8x128.size a) ∧
  (∀ a, (k0_off1293 v330) a + S1x1x1x8x128.size a ≤ S2x10x108x8x128.size a) ∧
  (∀ a, (k0_off1296 v330) a + S1x1x1x8x128.size a ≤ S2x10x108x8x128.size a) ∧
  (∀ a, (k0_off1298 v330) a + S1x1x1x8x128.size a ≤ S2x10x108x8x128.size a) ∧
  (∀ a, (k0_off1301 v330) a + S1x1x1x8x128.size a ≤ S2x10x108x8x128.size a) ∧
  (∀ a, (k0_off1303 v330) a + S1x1x1x8x128.size a ≤ S2x10x108x8x128.size a) ∧
  (∀ a, (k0_off1306 v330) a + S1x1x1x8x128.size a ≤ S2x10x108x8x128.size a) ∧
  (∀ a, (k0_off1308 v330) a + S1x1x1x8x128.size a ≤ S2x10x108x8x128.size a) ∧
  (∀ a, (k0_off1311 v330) a + S1x1x1x8x128.size a ≤ S2x10x108x8x128.size a) ∧
  (∀ a, (k0_off1313 v330) a + S1x1x1x8x128.size a ≤ S2x10x108x8x128.size a) ∧
  (∀ a, (k0_off1316 v330) a + S1x1x1x8x128.size a ≤ S2x10x108x8x128.size a) ∧
  (∀ a, (k0_off1318 v330) a + S1x1x1x8x128.size a ≤ S2x10x108x8x128.size a) ∧
  (∀ a, (k0_off1321 v330) a + S1x1x1x8x128.size a ≤ S2x10x108x8x128.size a) ∧
  (∀ a, (k0_off1323 v330) a + S1x1x1x8x128.size a ≤ S2x10x108x8x128.size a) ∧
  (∀ a, (k0_off1326 v330) a + S1x1x1x8x128.size a ≤ S2x10x108x8x128.size a) ∧
  (∀ a, (k0_off1328 v330) a + S1x1x1x8x128.size a ≤ S2x10x108x8x128.size a) ∧
  (∀ a, (k0_off1331 v330) a + S1x1x1x8x128.size a ≤ S2x10x108x8x128.size a) ∧
  (∀ a, (k0_off1333 v330) a + S1x1x1x8x128.size a ≤ S2x10x108x8x128.size a) ∧
  (∀ a, (k0_off1336 v330) a + S1x1x1x8x128.size a ≤ S2x10x108x8x128.size a) ∧
  (∀ a, (k0_off1338 v330) a + S1x1x1x8x128.size a ≤ S2x10x108x8x128.size a) ∧
  (∀ a, (k0_off1341 v330) a + S1x1x1x8x128.size a ≤ S2x10x108x8x128.size a) ∧
  (∀ a, (k0_off1343 v330) a + S1x1x1x8x128.size a ≤ S2x10x108x8x128.size a)
def k0_chk28_2 (v330 : BitVec 32) : Prop :=
  (∀ a, (k0_off1346 v330) a + S1x1x1x8x128.size a ≤ S2x10x108x8x128.size a) ∧
  (∀ a, (k0_off1348 v330) a + S1x1x1x8x128.size a ≤ S2x10x108x8x128.size a) ∧
  (∀ a, (k0_off1351 v330) a + S1x1x1x8x128.size a ≤ S2x10x108x8x128.size a) ∧
  (∀ a, (k0_off1353 v330) a + S1x1x1x8x128.size a ≤ S2x10x108x8x128.size a) ∧
  (∀ a, (k0_off1356 v330) a + S1x1x1x8x128.size a ≤ S2x10x108x8x128.size a) ∧
  (∀ a, (k0_off1358 v330) a + S1x1x1x8x128.size a ≤ S2x10x108x8x128.size a) ∧
  (∀ a, (k0_off1361 v330) a + S1x1x1x8x128.size a ≤ S2x10x108x8x128.size a) ∧
  (∀ a, (k0_off1363 v330) a + S1x1x1x8x128.size a ≤ S2x10x108x8x128.size a) ∧
  (∀ a, (k0_off1366 v330) a + S1x1x1x8x128.size a ≤ S2x10x108x8x128.size a) ∧
  (∀ a, (k0_off1368 v330) a + S1x1x1x8x128.size a ≤ S2x10x108x8x128.size a) ∧
  (∀ a, (k0_off1371 v330) a + S1x1x1x8x128.size a ≤ S2x10x108x8x128.size a) ∧
  (∀ a, (k0_off1373 v330) a + S1x1x1x8x128.size a ≤ S2x10x108x8x128.size a) ∧
  (∀ a, (k0_off1376 v330) a + S1x1x1x8x128.size a ≤ S2x10x108x8x128.size a) ∧
  (∀ a, (k0_off1378 v330) a + S1x1x1x8x128.size a ≤ S2x10x108x8x128.size a) ∧
  (∀ a, (k0_off1381 v330) a + S1x1x1x8x128.size a ≤ S2x10x108x8x128.size a) ∧
  (∀ a, (k0_off1383 v330) a + S1x1x1x8x128.size a ≤ S2x10x108x8x128.size a) ∧
  (∀ a, (k0_off1386 v330) a + S1x1x1x8x128.size a ≤ S2x10x108x8x128.size a) ∧
  (∀ a, (k0_off1388 v330) a + S1x1x1x8x128.size a ≤ S2x10x108x8x128.size a) ∧
  (∀ a, (k0_off1391 v330) a + S1x1x1x8x128.size a ≤ S2x10x108x8x128.size a) ∧
  (∀ a, (k0_off1393 v330) a + S1x1x1x8x128.size a ≤ S2x10x108x8x128.size a) ∧
  (∀ a, (k0_off1396 v330) a + S1x1x1x8x128.size a ≤ S2x10x108x8x128.size a) ∧
  (∀ a, (k0_off1398 v330) a + S1x1x1x8x128.size a ≤ S2x10x108x8x128.size a) ∧
  (∀ a, (k0_off1401 v330) a + S1x1x1x8x128.size a ≤ S2x10x108x8x128.size a) ∧
  (∀ a, (k0_off1403 v330) a + S1x1x1x8x128.size a ≤ S2x10x108x8x128.size a) ∧
  (∀ a, (k0_off1406 v330) a + S1x1x1x8x128.size a ≤ S2x10x108x8x128.size a) ∧
  (∀ a, (k0_off1408 v330) a + S1x1x1x8x128.size a ≤ S2x10x108x8x128.size a) ∧
  (∀ a, (k0_off1411 v330) a + S1x1x1x8x128.size a ≤ S2x10x108x8x128.size a) ∧
  (∀ a, (k0_off1413 v330) a + S1x1x1x8x128.size a ≤ S2x10x108x8x128.size a) ∧
  (∀ a, (k0_off1416 v330) a + S1x1x1x8x128.size a ≤ S2x10x108x8x128.size a) ∧
  (∀ a, (k0_off1418 v330) a + S1x1x1x8x128.size a ≤ S2x10x108x8x128.size a) ∧
  (∀ a, (k0_off1421 v330) a + S1x1x1x8x128.size a ≤ S2x10x108x8x128.size a) ∧
  (∀ a, (k0_off1423 v330) a + S1x1x1x8x128.size a ≤ S2x10x108x8x128.size a)
def k0_chk28_3 (v330 : BitVec 32) : Prop :=
  (∀ a, (k0_off1426 v330) a + S1x1x1x8x128.size a ≤ S2x10x108x8x128.size a) ∧
  (∀ a, (k0_off1428 v330) a + S1x1x1x8x128.size a ≤ S2x10x108x8x128.size a) ∧
  (∀ a, (k0_off1431 v330) a + S1x1x1x8x128.size a ≤ S2x10x108x8x128.size a) ∧
  (∀ a, (k0_off1433 v330) a + S1x1x1x8x128.size a ≤ S2x10x108x8x128.size a) ∧
  (∀ a, (k0_off1436 v330) a + S1x1x1x8x128.size a ≤ S2x10x108x8x128.size a) ∧
  (∀ a, (k0_off1438 v330) a + S1x1x1x8x128.size a ≤ S2x10x108x8x128.size a) ∧
  (∀ a, (k0_off1441 v330) a + S1x1x1x8x128.size a ≤ S2x10x108x8x128.size a) ∧
  (∀ a, (k0_off1443 v330) a + S1x1x1x8x128.size a ≤ S2x10x108x8x128.size a) ∧
  (∀ a, (k0_off1446 v330) a + S1x1x1x8x128.size a ≤ S2x10x108x8x128.size a) ∧
  (∀ a, (k0_off1448 v330) a + S1x1x1x8x128.size a ≤ S2x10x108x8x128.size a) ∧
  (∀ a, (k0_off1451 v330) a + S1x1x1x8x128.size a ≤ S2x10x108x8x128.size a) ∧
  (∀ a, (k0_off1453 v330) a + S1x1x1x8x128.size a ≤ S2x10x108x8x128.size a)
def k0_chk28 (v330 : BitVec 32) : Prop :=
  k0_chk28_0 v330 ∧
  k0_chk28_1 v330 ∧
  k0_chk28_2 v330 ∧
  k0_chk28_3 v330
theorem k0_off1186_inb : ∀ (v330 : BitVec 32) (k0_hw28 : k0_chk28 v330), ∀ a, (k0_off1186 v330) a + S1x1x1x8x128.size a ≤ S2x10x108x8x128.size a := fun v330 k0_hw28 => k0_hw28.1.1
theorem k0_off1188_inb : ∀ (v330 : BitVec 32) (k0_hw28 : k0_chk28 v330), ∀ a, (k0_off1188 v330) a + S1x1x1x8x128.size a ≤ S2x10x108x8x128.size a := fun v330 k0_hw28 => k0_hw28.1.2.1
theorem k0_off1191_inb : ∀ (v330 : BitVec 32) (k0_hw28 : k0_chk28 v330), ∀ a, (k0_off1191 v330) a + S1x1x1x8x128.size a ≤ S2x10x108x8x128.size a := fun v330 k0_hw28 => k0_hw28.1.2.2.1
theorem k0_off1193_inb : ∀ (v330 : BitVec 32) (k0_hw28 : k0_chk28 v330), ∀ a, (k0_off1193 v330) a + S1x1x1x8x128.size a ≤ S2x10x108x8x128.size a := fun v330 k0_hw28 => k0_hw28.1.2.2.2.1
theorem k0_off1196_inb : ∀ (v330 : BitVec 32) (k0_hw28 : k0_chk28 v330), ∀ a, (k0_off1196 v330) a + S1x1x1x8x128.size a ≤ S2x10x108x8x128.size a := fun v330 k0_hw28 => k0_hw28.1.2.2.2.2.1
theorem k0_off1198_inb : ∀ (v330 : BitVec 32) (k0_hw28 : k0_chk28 v330), ∀ a, (k0_off1198 v330) a + S1x1x1x8x128.size a ≤ S2x10x108x8x128.size a := fun v330 k0_hw28 => k0_hw28.1.2.2.2.2.2.1
theorem k0_off1201_inb : ∀ (v330 : BitVec 32) (k0_hw28 : k0_chk28 v330), ∀ a, (k0_off1201 v330) a + S1x1x1x8x128.size a ≤ S2x10x108x8x128.size a := fun v330 k0_hw28 => k0_hw28.1.2.2.2.2.2.2.1
theorem k0_off1203_inb : ∀ (v330 : BitVec 32) (k0_hw28 : k0_chk28 v330), ∀ a, (k0_off1203 v330) a + S1x1x1x8x128.size a ≤ S2x10x108x8x128.size a := fun v330 k0_hw28 => k0_hw28.1.2.2.2.2.2.2.2.1
theorem k0_off1206_inb : ∀ (v330 : BitVec 32) (k0_hw28 : k0_chk28 v330), ∀ a, (k0_off1206 v330) a + S1x1x1x8x128.size a ≤ S2x10x108x8x128.size a := fun v330 k0_hw28 => k0_hw28.1.2.2.2.2.2.2.2.2.1
theorem k0_off1208_inb : ∀ (v330 : BitVec 32) (k0_hw28 : k0_chk28 v330), ∀ a, (k0_off1208 v330) a + S1x1x1x8x128.size a ≤ S2x10x108x8x128.size a := fun v330 k0_hw28 => k0_hw28.1.2.2.2.2.2.2.2.2.2.1
theorem k0_off1211_inb : ∀ (v330 : BitVec 32) (k0_hw28 : k0_chk28 v330), ∀ a, (k0_off1211 v330) a + S1x1x1x8x128.size a ≤ S2x10x108x8x128.size a := fun v330 k0_hw28 => k0_hw28.1.2.2.2.2.2.2.2.2.2.2.1
theorem k0_off1213_inb : ∀ (v330 : BitVec 32) (k0_hw28 : k0_chk28 v330), ∀ a, (k0_off1213 v330) a + S1x1x1x8x128.size a ≤ S2x10x108x8x128.size a := fun v330 k0_hw28 => k0_hw28.1.2.2.2.2.2.2.2.2.2.2.2.1
theorem k0_off1216_inb : ∀ (v330 : BitVec 32) (k0_hw28 : k0_chk28 v330), ∀ a, (k0_off1216 v330) a + S1x1x1x8x128.size a ≤ S2x10x108x8x128.size a := fun v330 k0_hw28 => k0_hw28.1.2.2.2.2.2.2.2.2.2.2.2.2.1
theorem k0_off1218_inb : ∀ (v330 : BitVec 32) (k0_hw28 : k0_chk28 v330), ∀ a, (k0_off1218 v330) a + S1x1x1x8x128.size a ≤ S2x10x108x8x128.size a := fun v330 k0_hw28 => k0_hw28.1.2.2.2.2.2.2.2.2.2.2.2.2.2.1
theorem k0_off1221_inb : ∀ (v330 : BitVec 32) (k0_hw28 : k0_chk28 v330), ∀ a, (k0_off1221 v330) a + S1x1x1x8x128.size a ≤ S2x10x108x8x128.size a := fun v330 k0_hw28 => k0_hw28.1.2.2.2.2.2.2.2.2.2.2.2.2.2.2.1
theorem k0_off1223_inb : ∀ (v330 : BitVec 32) (k0_hw28 : k0_chk28 v330), ∀ a, (k0_off1223 v330) a + S1x1x1x8x128.size a ≤ S2x10x108x8x128.size a := fun v330 k0_hw28 => k0_hw28.1.2.2.2.2.2.2.2.2.2.2.2.2.2.2.2.1
theorem k0_off1226_inb : ∀ (v330 : BitVec 32) (k0_hw28 : k0_chk28 v330), ∀ a, (k0_off1226 v330) a + S1x1x1x8x128.size a ≤ S2x10x108x8x128.size a := fun v330 k0_hw28 => k0_hw28.1.2.2.2.2.2.2.2.2.2.2.2.2.2.2.2.2.1
theorem k0_off1228_inb : ∀ (v330 : BitVec 32) (k0_hw28 : k0_chk28 v330), ∀ a, (k0_off1228 v330) a + S1x1x1x8x128.size a ≤ S2x10x108x8x128.size a := fun v330 k0_hw28 => k0_hw28.1.2.2.2.2.2.2.2.2.2.2.2.2.2.2.2.2.2.1
theorem k0_off1231_inb : ∀ (v330 : BitVec 32) (k0_hw28 : k0_chk28 v330), ∀ a, (k0_off1231 v330) a + S1x1x1x8x128.size a ≤ S2x10x108x8x128.size a := fun v330 k0_hw28 => k0_hw28.1.2.2.2.2.2.2.2.2.2.2.2.2.2.2.2.2.2.2.1
theorem k0_off1233_inb : ∀ (v330 : BitVec 32) (k0_hw28 : k0_chk28 v330), ∀ a, (k0_off1233 v330) a + S1x1x1x8x128.size a ≤ S2x10x108x8x128.size a := fun v330 k0_hw28 => k0_hw28.1.2.2.2.2.2.2.2.2.2.2.2.2.2.2.2.2.2.2.2.1
theorem k0_off1236_inb : ∀ (v330 : BitVec 32) (k0_hw28 : k0_chk28 v330), ∀ a, (k0_off1236 v330) a + S1x1x1x8x128.size a ≤ S2x10x108x8x128.size a := fun v330 k0_hw28 => k0_hw28.1.2.2.2.2.2.2.2.2.2.2.2.2.2.2.2.2.2.2.2.2.1
theorem k0_off1238_inb : ∀ (v330 : BitVec 32) (k0_hw28 : k0_chk28 v330), ∀ a, (k0_off1238 v330) a + S1x1x1x8x128.size a ≤ S2x10x108x8x128.size a := fun v330 k0_hw28 => k0_hw28.1.2.2.2.2.2.2.2.2.2.2.2.2.2.2.2.2.2.2.2.2.2.1
theorem k0_off1241_inb : ∀ (v330 : BitVec 32) (k0_hw28 : k0_chk28 v330), ∀ a, (k0_off1241 v330) a + S1x1x1x8x128.size a ≤ S2x10x108x8x128.size a := fun v330 k0_hw28 => k0_hw28.1.2.2.2.2.2.2.2.2.2.2.2.2.2.2.2.2.2.2.2.2.2.2.1
theorem k0_off1243_inb : ∀ (v330 : BitVec 32) (k0_hw28 : k0_chk28 v330), ∀ a, (k0_off1243 v330) a + S1x1x1x8x128.size a ≤ S2x10x108x8x128.size a := fun v330 k0_hw28 => k0_hw28.1.2.2.2.2.2.2.2.2.2.2.2.2.2.2.2.2.2.2.2.2.2.2.2.1
theorem k0_off1246_inb : ∀ (v330 : BitVec 32) (k0_hw28 : k0_chk28 v330), ∀ a, (k0_off1246 v330) a + S1x1x1x8x128.size a ≤ S2x10x108x8x128.size a := fun v330 k0_hw28 => k0_hw28.1.2.2.2.2.2.2.2.2.2.2.2.2.2.2.2.2.2.2.2.2.2.2.2.2.1
theorem k0_off1248_inb : ∀ (v330 : BitVec 32) (k0_hw28 : k0_chk28 v330), ∀ a, (k0_off1248 v330) a + S1x1x1x8x128.size a ≤ S2x10x108x8x128.size a := fun v330 k0_hw28 => k0_hw28.1.2.2.2.2.2.2.2.2.2.2.2.2.2.2.2.2.2.2.2.2.2.2.2.2.2.1
theorem k0_off1251_inb : ∀ (v330 : BitVec 32) (k0_hw28 : k0_chk28 v330), ∀ a, (k0_off1251 v330) a + S1x1x1x8x128.size a ≤ S2x10x108x8x128.size a := fun v330 k0_hw28 => k0_hw28.1.2.2.2.2.2.2.2.2.2.2.2.2.2.2.2.2.2.2.2.2.2.2.2.2.2.2.1
theorem k0_off1253_inb : ∀ (v330 : BitVec 32) (k0_hw28 : k0_chk28 v330), ∀ a, (k0_off1253 v330) a + S1x1x1x8x128.size a ≤ S2x10x108x8x128.size a := fun v330 k0_hw28 => k0_hw28.1.2.2.2.2.2.2.2.2.2.2.2.2.2.2.2.2.2.2.2.2.2.2.2.2.2.2.2.1
theorem k0_off1256_inb : ∀ (v330 : BitVec 32) (k0_hw28 : k0_chk28 v330), ∀ a, (k0_off1256 v330) a + S1x1x1x8x128.size a ≤ S2x10x108x8x128.size a := fun v330 k0_hw28 => k0_hw28.1.2.2.2.2.2.2.2.2.2.2.2.2.2.2.2.2.2.2.2.2.2.2.2.2.2.2.2.2.1
theorem k0_off1258_inb : ∀ (v330 : BitVec 32) (k0_hw28 : k0_chk28 v330), ∀ a, (k0_off1258 v330) a + S1x1x1x8x128.size a ≤ S2x10x108x8x128.size a := fun v330 k0_hw28 => k0_hw28.1.2.2.2.2.2.2.2.2.2.2.2.2.2.2.2.2.2.2.2.2.2.2.2.2.2.2.2.2.2.1
theorem k0_off1261_inb : ∀ (v330 : BitVec 32) (k0_hw28 : k0_chk28 v330), ∀ a, (k0_off1261 v330) a + S1x1x1x8x128.size a ≤ S2x10x108x8x128.size a := fun v330 k0_hw28 => k0_hw28.1.2.2.2.2.2.2.2.2.2.2.2.2.2.2.2.2.2.2.2.2.2.2.2.2.2.2.2.2.2.2.1
theorem k0_off1263_inb : ∀ (v330 : BitVec 32) (k0_hw28 : k0_chk28 v330), ∀ a, (k0_off1263 v330) a + S1x1x1x8x128.size a ≤ S2x10x108x8x128.size a := fun v330 k0_hw28 => k0_hw28.1.2.2.2.2.2.2.2.2.2.2.2.2.2.2.2.2.2.2.2.2.2.2.2.2.2.2.2.2.2.2.2
theorem k0_off1266_inb : ∀ (v330 : BitVec 32) (k0_hw28 : k0_chk28 v330), ∀ a, (k0_off1266 v330) a + S1x1x1x8x128.size a ≤ S2x10x108x8x128.size a := fun v330 k0_hw28 => k0_hw28.2.1.1
theorem k0_off1268_inb : ∀ (v330 : BitVec 32) (k0_hw28 : k0_chk28 v330), ∀ a, (k0_off1268 v330) a + S1x1x1x8x128.size a ≤ S2x10x108x8x128.size a := fun v330 k0_hw28 => k0_hw28.2.1.2.1
theorem k0_off1271_inb : ∀ (v330 : BitVec 32) (k0_hw28 : k0_chk28 v330), ∀ a, (k0_off1271 v330) a + S1x1x1x8x128.size a ≤ S2x10x108x8x128.size a := fun v330 k0_hw28 => k0_hw28.2.1.2.2.1
theorem k0_off1273_inb : ∀ (v330 : BitVec 32) (k0_hw28 : k0_chk28 v330), ∀ a, (k0_off1273 v330) a + S1x1x1x8x128.size a ≤ S2x10x108x8x128.size a := fun v330 k0_hw28 => k0_hw28.2.1.2.2.2.1
theorem k0_off1276_inb : ∀ (v330 : BitVec 32) (k0_hw28 : k0_chk28 v330), ∀ a, (k0_off1276 v330) a + S1x1x1x8x128.size a ≤ S2x10x108x8x128.size a := fun v330 k0_hw28 => k0_hw28.2.1.2.2.2.2.1
theorem k0_off1278_inb : ∀ (v330 : BitVec 32) (k0_hw28 : k0_chk28 v330), ∀ a, (k0_off1278 v330) a + S1x1x1x8x128.size a ≤ S2x10x108x8x128.size a := fun v330 k0_hw28 => k0_hw28.2.1.2.2.2.2.2.1
theorem k0_off1281_inb : ∀ (v330 : BitVec 32) (k0_hw28 : k0_chk28 v330), ∀ a, (k0_off1281 v330) a + S1x1x1x8x128.size a ≤ S2x10x108x8x128.size a := fun v330 k0_hw28 => k0_hw28.2.1.2.2.2.2.2.2.1
theorem k0_off1283_inb : ∀ (v330 : BitVec 32) (k0_hw28 : k0_chk28 v330), ∀ a, (k0_off1283 v330) a + S1x1x1x8x128.size a ≤ S2x10x108x8x128.size a := fun v330 k0_hw28 => k0_hw28.2.1.2.2.2.2.2.2.2.1
theorem k0_off1286_inb : ∀ (v330 : BitVec 32) (k0_hw28 : k0_chk28 v330), ∀ a, (k0_off1286 v330) a + S1x1x1x8x128.size a ≤ S2x10x108x8x128.size a := fun v330 k0_hw28 => k0_hw28.2.1.2.2.2.2.2.2.2.2.1
theorem k0_off1288_inb : ∀ (v330 : BitVec 32) (k0_hw28 : k0_chk28 v330), ∀ a, (k0_off1288 v330) a + S1x1x1x8x128.size a ≤ S2x10x108x8x128.size a := fun v330 k0_hw28 => k0_hw28.2.1.2.2.2.2.2.2.2.2.2.1
theorem k0_off1291_inb : ∀ (v330 : BitVec 32) (k0_hw28 : k0_chk28 v330), ∀ a, (k0_off1291 v330) a + S1x1x1x8x128.size a ≤ S2x10x108x8x128.size a := fun v330 k0_hw28 => k0_hw28.2.1.2.2.2.2.2.2.2.2.2.2.1
theorem k0_off1293_inb : ∀ (v330 : BitVec 32) (k0_hw28 : k0_chk28 v330), ∀ a, (k0_off1293 v330) a + S1x1x1x8x128.size a ≤ S2x10x108x8x128.size a := fun v330 k0_hw28 => k0_hw28.2.1.2.2.2.2.2.2.2.2.2.2.2.1
theorem k0_off1296_inb : ∀ (v330 : BitVec 32) (k0_hw28 : k0_chk28 v330), ∀ a, (k0_off1296 v330) a + S1x1x1x8x128.size a ≤ S2x10x108x8x128.size a := fun v330 k0_hw28 => k0_hw28.2.1.2.2.2.2.2.2.2.2.2.2.2.2.1
theorem k0_off1298_inb : ∀ (v330 : BitVec 32) (k0_hw28 : k0_chk28 v330), ∀ a, (k0_off1298 v330) a + S1x1x1x8x128.size a ≤ S2x10x108x8x128.size a := fun v330 k0_hw28 => k0_hw28.2.1.2.2.2.2.2.2.2.2.2.2.2.2.2.1
theorem k0_off1301_inb : ∀ (v330 : BitVec 32) (k0_hw28 : k0_chk28 v330), ∀ a, (k0_off1301 v330) a + S1x1x1x8x128.size a ≤ S2x10x108x8x128.size a := fun v330 k0_hw28 => k0_hw28.2.1.2.2.2.2.2.2.2.2.2.2.2.2.2.2.1
theorem k0_off1303_inb : ∀ (v330 : BitVec 32) (k0_hw28 : k0_chk28 v330), ∀ a, (k0_off1303 v330) a + S1x1x1x8x128.size a ≤ S2x10x108x8x128.size a := fun v330 k0_hw28 => k0_hw28.2.1.2.2.2.2.2.2.2.2.2.2.2.2.2.2.2.1
theorem k0_off1306_inb : ∀ (v330 : BitVec 32) (k0_hw28 : k0_chk28 v330), ∀ a, (k0_off1306 v330) a + S1x1x1x8x128.size a ≤ S2x10x108x8x128.size a := fun v330 k0_hw28 => k0_hw28.2.1.2.2.2.2.2.2.2.2.2.2.2.2.2.2.2.2.1
theorem k0_off1308_inb : ∀ (v330 : BitVec 32) (k0_hw28 : k0_chk28 v330), ∀ a, (k0_off1308 v330) a + S1x1x1x8x128.size a ≤ S2x10x108x8x128.size a := fun v330 k0_hw28 => k0_hw28.2.1.2.2.2.2.2.2.2.2.2.2.2.2.2.2.2.2.2.1
theorem k0_off1311_inb : ∀ (v330 : BitVec 32) (k0_hw28 : k0_chk28 v330), ∀ a, (k0_off1311 v330) a + S1x1x1x8x128.size a ≤ S2x10x108x8x128.size a := fun v330 k0_hw28 => k0_hw28.2.1.2.2.2.2.2.2.2.2.2.2.2.2.2.2.2.2.2.2.1
theorem k0_off1313_inb : ∀ (v330 : BitVec 32) (k0_hw28 : k0_chk28 v330), ∀ a, (k0_off1313 v330) a + S1x1x1x8x128.size a ≤ S2x10x108x8x128.size a := fun v330 k0_hw28 => k0_hw28.2.1.2.2.2.2.2.2.2.2.2.2.2.2.2.2.2.2.2.2.2.1
theorem k0_off1316_inb : ∀ (v330 : BitVec 32) (k0_hw28 : k0_chk28 v330), ∀ a, (k0_off1316 v330) a + S1x1x1x8x128.size a ≤ S2x10x108x8x128.size a := fun v330 k0_hw28 => k0_hw28.2.1.2.2.2.2.2.2.2.2.2.2.2.2.2.2.2.2.2.2.2.2.1
theorem k0_off1318_inb : ∀ (v330 : BitVec 32) (k0_hw28 : k0_chk28 v330), ∀ a, (k0_off1318 v330) a + S1x1x1x8x128.size a ≤ S2x10x108x8x128.size a := fun v330 k0_hw28 => k0_hw28.2.1.2.2.2.2.2.2.2.2.2.2.2.2.2.2.2.2.2.2.2.2.2.1
theorem k0_off1321_inb : ∀ (v330 : BitVec 32) (k0_hw28 : k0_chk28 v330), ∀ a, (k0_off1321 v330) a + S1x1x1x8x128.size a ≤ S2x10x108x8x128.size a := fun v330 k0_hw28 => k0_hw28.2.1.2.2.2.2.2.2.2.2.2.2.2.2.2.2.2.2.2.2.2.2.2.2.1
theorem k0_off1323_inb : ∀ (v330 : BitVec 32) (k0_hw28 : k0_chk28 v330), ∀ a, (k0_off1323 v330) a + S1x1x1x8x128.size a ≤ S2x10x108x8x128.size a := fun v330 k0_hw28 => k0_hw28.2.1.2.2.2.2.2.2.2.2.2.2.2.2.2.2.2.2.2.2.2.2.2.2.2.1
theorem k0_off1326_inb : ∀ (v330 : BitVec 32) (k0_hw28 : k0_chk28 v330), ∀ a, (k0_off1326 v330) a + S1x1x1x8x128.size a ≤ S2x10x108x8x128.size a := fun v330 k0_hw28 => k0_hw28.2.1.2.2.2.2.2.2.2.2.2.2.2.2.2.2.2.2.2.2.2.2.2.2.2.2.1
theorem k0_off1328_inb : ∀ (v330 : BitVec 32) (k0_hw28 : k0_chk28 v330), ∀ a, (k0_off1328 v330) a + S1x1x1x8x128.size a ≤ S2x10x108x8x128.size a := fun v330 k0_hw28 => k0_hw28.2.1.2.2.2.2.2.2.2.2.2.2.2.2.2.2.2.2.2.2.2.2.2.2.2.2.2.1
theorem k0_off1331_inb : ∀ (v330 : BitVec 32) (k0_hw28 : k0_chk28 v330), ∀ a, (k0_off1331 v330) a + S1x1x1x8x128.size a ≤ S2x10x108x8x128.size a := fun v330 k0_hw28 => k0_hw28.2.1.2.2.2.2.2.2.2.2.2.2.2.2.2.2.2.2.2.2.2.2.2.2.2.2.2.2.1
theorem k0_off1333_inb : ∀ (v330 : BitVec 32) (k0_hw28 : k0_chk28 v330), ∀ a, (k0_off1333 v330) a + S1x1x1x8x128.size a ≤ S2x10x108x8x128.size a := fun v330 k0_hw28 => k0_hw28.2.1.2.2.2.2.2.2.2.2.2.2.2.2.2.2.2.2.2.2.2.2.2.2.2.2.2.2.2.1
theorem k0_off1336_inb : ∀ (v330 : BitVec 32) (k0_hw28 : k0_chk28 v330), ∀ a, (k0_off1336 v330) a + S1x1x1x8x128.size a ≤ S2x10x108x8x128.size a := fun v330 k0_hw28 => k0_hw28.2.1.2.2.2.2.2.2.2.2.2.2.2.2.2.2.2.2.2.2.2.2.2.2.2.2.2.2.2.2.1
theorem k0_off1338_inb : ∀ (v330 : BitVec 32) (k0_hw28 : k0_chk28 v330), ∀ a, (k0_off1338 v330) a + S1x1x1x8x128.size a ≤ S2x10x108x8x128.size a := fun v330 k0_hw28 => k0_hw28.2.1.2.2.2.2.2.2.2.2.2.2.2.2.2.2.2.2.2.2.2.2.2.2.2.2.2.2.2.2.2.1
theorem k0_off1341_inb : ∀ (v330 : BitVec 32) (k0_hw28 : k0_chk28 v330), ∀ a, (k0_off1341 v330) a + S1x1x1x8x128.size a ≤ S2x10x108x8x128.size a := fun v330 k0_hw28 => k0_hw28.2.1.2.2.2.2.2.2.2.2.2.2.2.2.2.2.2.2.2.2.2.2.2.2.2.2.2.2.2.2.2.2.1
theorem k0_off1343_inb : ∀ (v330 : BitVec 32) (k0_hw28 : k0_chk28 v330), ∀ a, (k0_off1343 v330) a + S1x1x1x8x128.size a ≤ S2x10x108x8x128.size a := fun v330 k0_hw28 => k0_hw28.2.1.2.2.2.2.2.2.2.2.2.2.2.2.2.2.2.2.2.2.2.2.2.2.2.2.2.2.2.2.2.2.2
theorem k0_off1346_inb : ∀ (v330 : BitVec 32) (k0_hw28 : k0_chk28 v330), ∀ a, (k0_off1346 v330) a + S1x1x1x8x128.size a ≤ S2x10x108x8x128.size a := fun v330 k0_hw28 => k0_hw28.2.2.1.1
theorem k0_off1348_inb : ∀ (v330 : BitVec 32) (k0_hw28 : k0_chk28 v330), ∀ a, (k0_off1348 v330) a + S1x1x1x8x128.size a ≤ S2x10x108x8x128.size a := fun v330 k0_hw28 => k0_hw28.2.2.1.2.1
theorem k0_off1351_inb : ∀ (v330 : BitVec 32) (k0_hw28 : k0_chk28 v330), ∀ a, (k0_off1351 v330) a + S1x1x1x8x128.size a ≤ S2x10x108x8x128.size a := fun v330 k0_hw28 => k0_hw28.2.2.1.2.2.1
theorem k0_off1353_inb : ∀ (v330 : BitVec 32) (k0_hw28 : k0_chk28 v330), ∀ a, (k0_off1353 v330) a + S1x1x1x8x128.size a ≤ S2x10x108x8x128.size a := fun v330 k0_hw28 => k0_hw28.2.2.1.2.2.2.1
theorem k0_off1356_inb : ∀ (v330 : BitVec 32) (k0_hw28 : k0_chk28 v330), ∀ a, (k0_off1356 v330) a + S1x1x1x8x128.size a ≤ S2x10x108x8x128.size a := fun v330 k0_hw28 => k0_hw28.2.2.1.2.2.2.2.1
theorem k0_off1358_inb : ∀ (v330 : BitVec 32) (k0_hw28 : k0_chk28 v330), ∀ a, (k0_off1358 v330) a + S1x1x1x8x128.size a ≤ S2x10x108x8x128.size a := fun v330 k0_hw28 => k0_hw28.2.2.1.2.2.2.2.2.1
theorem k0_off1361_inb : ∀ (v330 : BitVec 32) (k0_hw28 : k0_chk28 v330), ∀ a, (k0_off1361 v330) a + S1x1x1x8x128.size a ≤ S2x10x108x8x128.size a := fun v330 k0_hw28 => k0_hw28.2.2.1.2.2.2.2.2.2.1
theorem k0_off1363_inb : ∀ (v330 : BitVec 32) (k0_hw28 : k0_chk28 v330), ∀ a, (k0_off1363 v330) a + S1x1x1x8x128.size a ≤ S2x10x108x8x128.size a := fun v330 k0_hw28 => k0_hw28.2.2.1.2.2.2.2.2.2.2.1
theorem k0_off1366_inb : ∀ (v330 : BitVec 32) (k0_hw28 : k0_chk28 v330), ∀ a, (k0_off1366 v330) a + S1x1x1x8x128.size a ≤ S2x10x108x8x128.size a := fun v330 k0_hw28 => k0_hw28.2.2.1.2.2.2.2.2.2.2.2.1
theorem k0_off1368_inb : ∀ (v330 : BitVec 32) (k0_hw28 : k0_chk28 v330), ∀ a, (k0_off1368 v330) a + S1x1x1x8x128.size a ≤ S2x10x108x8x128.size a := fun v330 k0_hw28 => k0_hw28.2.2.1.2.2.2.2.2.2.2.2.2.1
theorem k0_off1371_inb : ∀ (v330 : BitVec 32) (k0_hw28 : k0_chk28 v330), ∀ a, (k0_off1371 v330) a + S1x1x1x8x128.size a ≤ S2x10x108x8x128.size a := fun v330 k0_hw28 => k0_hw28.2.2.1.2.2.2.2.2.2.2.2.2.2.1
theorem k0_off1373_inb : ∀ (v330 : BitVec 32) (k0_hw28 : k0_chk28 v330), ∀ a, (k0_off1373 v330) a + S1x1x1x8x128.size a ≤ S2x10x108x8x128.size a := fun v330 k0_hw28 => k0_hw28.2.2.1.2.2.2.2.2.2.2.2.2.2.2.1
theorem k0_off1376_inb : ∀ (v330 : BitVec 32) (k0_hw28 : k0_chk28 v330), ∀ a, (k0_off1376 v330) a + S1x1x1x8x128.size a ≤ S2x10x108x8x128.size a := fun v330 k0_hw28 => k0_hw28.2.2.1.2.2.2.2.2.2.2.2.2.2.2.2.1
theorem k0_off1378_inb : ∀ (v330 : BitVec 32) (k0_hw28 : k0_chk28 v330), ∀ a, (k0_off1378 v330) a + S1x1x1x8x128.size a ≤ S2x10x108x8x128.size a := fun v330 k0_hw28 => k0_hw28.2.2.1.2.2.2.2.2.2.2.2.2.2.2.2.2.1
theorem k0_off1381_inb : ∀ (v330 : BitVec 32) (k0_hw28 : k0_chk28 v330), ∀ a, (k0_off1381 v330) a + S1x1x1x8x128.size a ≤ S2x10x108x8x128.size a := fun v330 k0_hw28 => k0_hw28.2.2.1.2.2.2.2.2.2.2.2.2.2.2.2.2.2.1
theorem k0_off1383_inb : ∀ (v330 : BitVec 32) (k0_hw28 : k0_chk28 v330), ∀ a, (k0_off1383 v330) a + S1x1x1x8x128.size a ≤ S2x10x108x8x128.size a := fun v330 k0_hw28 => k0_hw28.2.2.1.2.2.2.2.2.2.2.2.2.2.2.2.2.2.2.1
theorem k0_off1386_inb : ∀ (v330 : BitVec 32) (k0_hw28 : k0_chk28 v330), ∀ a, (k0_off1386 v330) a + S1x1x1x8x128.size a ≤ S2x10x108x8x128.size a := fun v330 k0_hw28 => k0_hw28.2.2.1.2.2.2.2.2.2.2.2.2.2.2.2.2.2.2.2.1
theorem k0_off1388_inb : ∀ (v330 : BitVec 32) (k0_hw28 : k0_chk28 v330), ∀ a, (k0_off1388 v330) a + S1x1x1x8x128.size a ≤ S2x10x108x8x128.size a := fun v330 k0_hw28 => k0_hw28.2.2.1.2.2.2.2.2.2.2.2.2.2.2.2.2.2.2.2.2.1
theorem k0_off1391_inb : ∀ (v330 : BitVec 32) (k0_hw28 : k0_chk28 v330), ∀ a, (k0_off1391 v330) a + S1x1x1x8x128.size a ≤ S2x10x108x8x128.size a := fun v330 k0_hw28 => k0_hw28.2.2.1.2.2.2.2.2.2.2.2.2.2.2.2.2.2.2.2.2.2.1
theorem k0_off1393_inb : ∀ (v330 : BitVec 32) (k0_hw28 : k0_chk28 v330), ∀ a, (k0_off1393 v330) a + S1x1x1x8x128.size a ≤ S2x10x108x8x128.size a := fun v330 k0_hw28 => k0_hw28.2.2.1.2.2.2.2.2.2.2.2.2.2.2.2.2.2.2.2.2.2.2.1
theorem k0_off1396_inb : ∀ (v330 : BitVec 32) (k0_hw28 : k0_chk28 v330), ∀ a, (k0_off1396 v330) a + S1x1x1x8x128.size a ≤ S2x10x108x8x128.size a := fun v330 k0_hw28 => k0_hw28.2.2.1.2.2.2.2.2.2.2.2.2.2.2.2.2.2.2.2.2.2.2.2.1
theorem k0_off1398_inb : ∀ (v330 : BitVec 32) (k0_hw28 : k0_chk28 v330), ∀ a, (k0_off1398 v330) a + S1x1x1x8x128.size a ≤ S2x10x108x8x128.size a := fun v330 k0_hw28 => k0_hw28.2.2.1.2.2.2.2.2.2.2.2.2.2.2.2.2.2.2.2.2.2.2.2.2.1
theorem k0_off1401_inb : ∀ (v330 : BitVec 32) (k0_hw28 : k0_chk28 v330), ∀ a, (k0_off1401 v330) a + S1x1x1x8x128.size a ≤ S2x10x108x8x128.size a := fun v330 k0_hw28 => k0_hw28.2.2.1.2.2.2.2.2.2.2.2.2.2.2.2.2.2.2.2.2.2.2.2.2.2.1
theorem k0_off1403_inb : ∀ (v330 : BitVec 32) (k0_hw28 : k0_chk28 v330), ∀ a, (k0_off1403 v330) a + S1x1x1x8x128.size a ≤ S2x10x108x8x128.size a := fun v330 k0_hw28 => k0_hw28.2.2.1.2.2.2.2.2.2.2.2.2.2.2.2.2.2.2.2.2.2.2.2.2.2.2.1
theorem k0_off1406_inb : ∀ (v330 : BitVec 32) (k0_hw28 : k0_chk28 v330), ∀ a, (k0_off1406 v330) a + S1x1x1x8x128.size a ≤ S2x10x108x8x128.size a := fun v330 k0_hw28 => k0_hw28.2.2.1.2.2.2.2.2.2.2.2.2.2.2.2.2.2.2.2.2.2.2.2.2.2.2.2.1
theorem k0_off1408_inb : ∀ (v330 : BitVec 32) (k0_hw28 : k0_chk28 v330), ∀ a, (k0_off1408 v330) a + S1x1x1x8x128.size a ≤ S2x10x108x8x128.size a := fun v330 k0_hw28 => k0_hw28.2.2.1.2.2.2.2.2.2.2.2.2.2.2.2.2.2.2.2.2.2.2.2.2.2.2.2.2.1
theorem k0_off1411_inb : ∀ (v330 : BitVec 32) (k0_hw28 : k0_chk28 v330), ∀ a, (k0_off1411 v330) a + S1x1x1x8x128.size a ≤ S2x10x108x8x128.size a := fun v330 k0_hw28 => k0_hw28.2.2.1.2.2.2.2.2.2.2.2.2.2.2.2.2.2.2.2.2.2.2.2.2.2.2.2.2.2.1
theorem k0_off1413_inb : ∀ (v330 : BitVec 32) (k0_hw28 : k0_chk28 v330), ∀ a, (k0_off1413 v330) a + S1x1x1x8x128.size a ≤ S2x10x108x8x128.size a := fun v330 k0_hw28 => k0_hw28.2.2.1.2.2.2.2.2.2.2.2.2.2.2.2.2.2.2.2.2.2.2.2.2.2.2.2.2.2.2.1
theorem k0_off1416_inb : ∀ (v330 : BitVec 32) (k0_hw28 : k0_chk28 v330), ∀ a, (k0_off1416 v330) a + S1x1x1x8x128.size a ≤ S2x10x108x8x128.size a := fun v330 k0_hw28 => k0_hw28.2.2.1.2.2.2.2.2.2.2.2.2.2.2.2.2.2.2.2.2.2.2.2.2.2.2.2.2.2.2.2.1
theorem k0_off1418_inb : ∀ (v330 : BitVec 32) (k0_hw28 : k0_chk28 v330), ∀ a, (k0_off1418 v330) a + S1x1x1x8x128.size a ≤ S2x10x108x8x128.size a := fun v330 k0_hw28 => k0_hw28.2.2.1.2.2.2.2.2.2.2.2.2.2.2.2.2.2.2.2.2.2.2.2.2.2.2.2.2.2.2.2.2.1
theorem k0_off1421_inb : ∀ (v330 : BitVec 32) (k0_hw28 : k0_chk28 v330), ∀ a, (k0_off1421 v330) a + S1x1x1x8x128.size a ≤ S2x10x108x8x128.size a := fun v330 k0_hw28 => k0_hw28.2.2.1.2.2.2.2.2.2.2.2.2.2.2.2.2.2.2.2.2.2.2.2.2.2.2.2.2.2.2.2.2.2.1
theorem k0_off1423_inb : ∀ (v330 : BitVec 32) (k0_hw28 : k0_chk28 v330), ∀ a, (k0_off1423 v330) a + S1x1x1x8x128.size a ≤ S2x10x108x8x128.size a := fun v330 k0_hw28 => k0_hw28.2.2.1.2.2.2.2.2.2.2.2.2.2.2.2.2.2.2.2.2.2.2.2.2.2.2.2.2.2.2.2.2.2.2
theorem k0_off1426_inb : ∀ (v330 : BitVec 32) (k0_hw28 : k0_chk28 v330), ∀ a, (k0_off1426 v330) a + S1x1x1x8x128.size a ≤ S2x10x108x8x128.size a := fun v330 k0_hw28 => k0_hw28.2.2.2.1
theorem k0_off1428_inb : ∀ (v330 : BitVec 32) (k0_hw28 : k0_chk28 v330), ∀ a, (k0_off1428 v330) a + S1x1x1x8x128.size a ≤ S2x10x108x8x128.size a := fun v330 k0_hw28 => k0_hw28.2.2.2.2.1
theorem k0_off1431_inb : ∀ (v330 : BitVec 32) (k0_hw28 : k0_chk28 v330), ∀ a, (k0_off1431 v330) a + S1x1x1x8x128.size a ≤ S2x10x108x8x128.size a := fun v330 k0_hw28 => k0_hw28.2.2.2.2.2.1
theorem k0_off1433_inb : ∀ (v330 : BitVec 32) (k0_hw28 : k0_chk28 v330), ∀ a, (k0_off1433 v330) a + S1x1x1x8x128.size a ≤ S2x10x108x8x128.size a := fun v330 k0_hw28 => k0_hw28.2.2.2.2.2.2.1
theorem k0_off1436_inb : ∀ (v330 : BitVec 32) (k0_hw28 : k0_chk28 v330), ∀ a, (k0_off1436 v330) a + S1x1x1x8x128.size a ≤ S2x10x108x8x128.size a := fun v330 k0_hw28 => k0_hw28.2.2.2.2.2.2.2.1
theorem k0_off1438_inb : ∀ (v330 : BitVec 32) (k0_hw28 : k0_chk28 v330), ∀ a, (k0_off1438 v330) a + S1x1x1x8x128.size a ≤ S2x10x108x8x128.size a := fun v330 k0_hw28 => k0_hw28.2.2.2.2.2.2.2.2.1
theorem k0_off1441_inb : ∀ (v330 : BitVec 32) (k0_hw28 : k0_chk28 v330), ∀ a, (k0_off1441 v330) a + S1x1x1x8x128.size a ≤ S2x10x108x8x128.size a := fun v330 k0_hw28 => k0_hw28.2.2.2.2.2.2.2.2.2.1
theorem k0_off1443_inb : ∀ (v330 : BitVec 32) (k0_hw28 : k0_chk28 v330), ∀ a, (k0_off1443 v330) a + S1x1x1x8x128.size a ≤ S2x10x108x8x128.size a := fun v330 k0_hw28 => k0_hw28.2.2.2.2.2.2.2.2.2.2.1
theorem k0_off1446_inb : ∀ (v330 : BitVec 32) (k0_hw28 : k0_chk28 v330), ∀ a, (k0_off1446 v330) a + S1x1x1x8x128.size a ≤ S2x10x108x8x128.size a := fun v330 k0_hw28 => k0_hw28.2.2.2.2.2.2.2.2.2.2.2.1
theorem k0_off1448_inb : ∀ (v330 : BitVec 32) (k0_hw28 : k0_chk28 v330), ∀ a, (k0_off1448 v330) a + S1x1x1x8x128.size a ≤ S2x10x108x8x128.size a := fun v330 k0_hw28 => k0_hw28.2.2.2.2.2.2.2.2.2.2.2.2.1
theorem k0_off1451_inb : ∀ (v330 : BitVec 32) (k0_hw28 : k0_chk28 v330), ∀ a, (k0_off1451 v330) a + S1x1x1x8x128.size a ≤ S2x10x108x8x128.size a := fun v330 k0_hw28 => k0_hw28.2.2.2.2.2.2.2.2.2.2.2.2.2.1
theorem k0_off1453_inb : ∀ (v330 : BitVec 32) (k0_hw28 : k0_chk28 v330), ∀ a, (k0_off1453 v330) a + S1x1x1x8x128.size a ≤ S2x10x108x8x128.size a := fun v330 k0_hw28 => k0_hw28.2.2.2.2.2.2.2.2.2.2.2.2.2.2

def k0_off1454 (v1 : BitVec 32) (k0_t34 : Fin (k0_t34_loop v1).trips) (v228 : BitVec 32) (v257 : BitVec 32) (k0_t45 : Fin (k0_t45_loop v228 v257).trips) : Fin 5 → Nat :=
  let c1_1447 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v3024 : Index := Scalar.indexCast v226
  let c107_1448 : Index := 107#32
  let c0_i32_433 : BitVec 32 := 0#32
  let c1_i32_435 : BitVec 32 := 1#32
  let arg19 : BitVec 32 := Scf.iv c0_i32_433 c1_i32_435 k0_t45
  let c16_i32_473 : BitVec 32 := 16#32
  let v381 : BitVec 32 := Scalar.muli arg19 c16_i32_473
  let v382 : BitVec 32 := v381
  let v3025 : Index := Scalar.indexCast v382
  let c0_1449 : Index := 0#32
  ![1, v3024.toNat, 107, v3025.toNat, 0]
@[reducible] def k0_t46_loop (v228 : BitVec 32) (v257 : BitVec 32) : Scf.Loop 32 :=
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let v305 : BitVec 32 := Scalar.addi c0_i32_433 v304
  let c1_i32_436 : BitVec 32 := 1#32
  ⟨v308, v305, c1_i32_436⟩
def k0_off1455 (v228 : BitVec 32) (v257 : BitVec 32) (k0_t46 : Fin (k0_t46_loop v228 v257).trips) : Fin 2 → Nat :=
  let c0_i32_381 : BitVec 32 := 0#32
  let v230 : BitVec 1 := Scalar.cmpi .sgt v228 c0_i32_381
  let v231 : BitVec 32 := Scalar.extui v230
  let c0_i32_382 : BitVec 32 := 0#32
  let v232 : BitVec 1 := Scalar.cmpi .slt v228 c0_i32_382
  let v233 : BitVec 32 := Scalar.extui v232
  let v234 : BitVec 32 := Scalar.subi v231 v233
  let c16_i32 : BitVec 32 := 16#32
  let c0_i32_383 : BitVec 32 := 0#32
  let v235 : BitVec 1 := Scalar.cmpi .sgt c16_i32 c0_i32_383
  let v236 : BitVec 32 := Scalar.extui v235
  let c0_i32_384 : BitVec 32 := 0#32
  let v237 : BitVec 1 := Scalar.cmpi .slt c16_i32 c0_i32_384
  let v238 : BitVec 32 := Scalar.extui v237
  let v239 : BitVec 32 := Scalar.subi v236 v238
  let v240 : BitVec 1 := Scalar.cmpi .ne v234 v239
  let v241 : BitVec 32 := Scalar.remsi v228 c16_i32
  let c0_i32_385 : BitVec 32 := 0#32
  let v242 : BitVec 1 := Scalar.cmpi .ne v241 c0_i32_385
  let v243 : BitVec 1 := Scalar.andi v240 v242
  let v229 : BitVec 32 := Scalar.divsi v228 c16_i32
  let c1_i32_386 : BitVec 32 := 1#32
  let v244 : BitVec 32 := Scalar.subi v229 c1_i32_386
  let v245 : BitVec 32 := Scalar.select v243 v244 v229
  let v328 : Index := Scalar.indexCast v245
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_452 : BitVec 32 := 8#32
  let v326 : BitVec 32 := Scalar.muli v255 c8_i32_452
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v327 : BitVec 32 := Scalar.addi v326 arg19
  let v329 : Index := Scalar.indexCast v327
  ![v328.toNat, v329.toNat]
def k0_off1456 (v228 : BitVec 32) : Fin 1 → Nat :=
  let c0_i32_381 : BitVec 32 := 0#32
  let v230 : BitVec 1 := Scalar.cmpi .sgt v228 c0_i32_381
  let v231 : BitVec 32 := Scalar.extui v230
  let c0_i32_382 : BitVec 32 := 0#32
  let v232 : BitVec 1 := Scalar.cmpi .slt v228 c0_i32_382
  let v233 : BitVec 32 := Scalar.extui v232
  let v234 : BitVec 32 := Scalar.subi v231 v233
  let c16_i32 : BitVec 32 := 16#32
  let c0_i32_383 : BitVec 32 := 0#32
  let v235 : BitVec 1 := Scalar.cmpi .sgt c16_i32 c0_i32_383
  let v236 : BitVec 32 := Scalar.extui v235
  let c0_i32_384 : BitVec 32 := 0#32
  let v237 : BitVec 1 := Scalar.cmpi .slt c16_i32 c0_i32_384
  let v238 : BitVec 32 := Scalar.extui v237
  let v239 : BitVec 32 := Scalar.subi v236 v238
  let v240 : BitVec 1 := Scalar.cmpi .ne v234 v239
  let v241 : BitVec 32 := Scalar.remsi v228 c16_i32
  let c0_i32_385 : BitVec 32 := 0#32
  let v242 : BitVec 1 := Scalar.cmpi .ne v241 c0_i32_385
  let v243 : BitVec 1 := Scalar.andi v240 v242
  let v229 : BitVec 32 := Scalar.divsi v228 c16_i32
  let c1_i32_386 : BitVec 32 := 1#32
  let v244 : BitVec 32 := Scalar.subi v229 c1_i32_386
  let v245 : BitVec 32 := Scalar.select v243 v244 v229
  let v359 : Index := Scalar.indexCast v245
  ![v359.toNat]
def k0_mult13 (v228 : BitVec 32) (v257 : BitVec 32) (k0_t46 : Fin (k0_t46_loop v228 v257).trips) : BitVec 32 :=
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  v381
def k0_off1457 (v1 : BitVec 32) (k0_t34 : Fin (k0_t34_loop v1).trips) (v228 : BitVec 32) (v257 : BitVec 32) (k0_t46 : Fin (k0_t46_loop v228 v257).trips) : Fin 5 → Nat :=
  let c1 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v383 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v384 : Index := Scalar.indexCast arg19
  let c0 : Index := 0#32
  let c0_474 : Index := 0#32
  ![1, v383.toNat, v384.toNat, 0, 0]
def k0_off1458 (v330 : BitVec 32) : Fin 5 → Nat :=
  let c1_475 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v388 : Index := Scalar.indexCast v347
  let c0_476 : Index := 0#32
  let c0_477 : Index := 0#32
  let c0_478 : Index := 0#32
  ![1, v388.toNat, 0, 0, 0]

def k0_off1459 (v1 : BitVec 32) (k0_t34 : Fin (k0_t34_loop v1).trips) (v228 : BitVec 32) (v257 : BitVec 32) (k0_t46 : Fin (k0_t46_loop v228 v257).trips) : Fin 5 → Nat :=
  let c1_481 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v405 : Index := Scalar.indexCast v226
  let c0_482 : Index := 0#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v406 : Index := Scalar.indexCast v382
  let c0_483 : Index := 0#32
  ![1, v405.toNat, 0, v406.toNat, 0]
def k0_off1460 (v330 : BitVec 32) : Fin 5 → Nat :=
  let c1_484 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v410 : Index := Scalar.indexCast v347
  let c1_485 : Index := 1#32
  let c0_486 : Index := 0#32
  let c0_487 : Index := 0#32
  ![1, v410.toNat, 1, 0, 0]
def k0_off1461 (v1 : BitVec 32) (k0_t34 : Fin (k0_t34_loop v1).trips) (v228 : BitVec 32) (v257 : BitVec 32) (k0_t46 : Fin (k0_t46_loop v228 v257).trips) : Fin 5 → Nat :=
  let c1_490 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v427 : Index := Scalar.indexCast v226
  let c1_491 : Index := 1#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v428 : Index := Scalar.indexCast v382
  let c0_492 : Index := 0#32
  ![1, v427.toNat, 1, v428.toNat, 0]
def k0_off1462 (v1 : BitVec 32) (k0_t34 : Fin (k0_t34_loop v1).trips) (v228 : BitVec 32) (v257 : BitVec 32) (k0_t46 : Fin (k0_t46_loop v228 v257).trips) : Fin 5 → Nat :=
  let c1_493 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v432 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v433 : Index := Scalar.indexCast arg19
  let c32 : Index := 32#32
  let c0_494 : Index := 0#32
  ![1, v432.toNat, v433.toNat, 32, 0]
def k0_off1463 (v330 : BitVec 32) : Fin 5 → Nat :=
  let c1_495 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v437 : Index := Scalar.indexCast v347
  let c2 : Index := 2#32
  let c0_496 : Index := 0#32
  let c0_497 : Index := 0#32
  ![1, v437.toNat, 2, 0, 0]
def k0_off1464 (v1 : BitVec 32) (k0_t34 : Fin (k0_t34_loop v1).trips) (v228 : BitVec 32) (v257 : BitVec 32) (k0_t46 : Fin (k0_t46_loop v228 v257).trips) : Fin 5 → Nat :=
  let c1_500 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v454 : Index := Scalar.indexCast v226
  let c2_501 : Index := 2#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v455 : Index := Scalar.indexCast v382
  let c0_502 : Index := 0#32
  ![1, v454.toNat, 2, v455.toNat, 0]
def k0_off1465 (v330 : BitVec 32) : Fin 5 → Nat :=
  let c1_503 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v459 : Index := Scalar.indexCast v347
  let c3 : Index := 3#32
  let c0_504 : Index := 0#32
  let c0_505 : Index := 0#32
  ![1, v459.toNat, 3, 0, 0]
def k0_off1466 (v1 : BitVec 32) (k0_t34 : Fin (k0_t34_loop v1).trips) (v228 : BitVec 32) (v257 : BitVec 32) (k0_t46 : Fin (k0_t46_loop v228 v257).trips) : Fin 5 → Nat :=
  let c1_508 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v476 : Index := Scalar.indexCast v226
  let c3_509 : Index := 3#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v477 : Index := Scalar.indexCast v382
  let c0_510 : Index := 0#32
  ![1, v476.toNat, 3, v477.toNat, 0]
def k0_off1467 (v1 : BitVec 32) (k0_t34 : Fin (k0_t34_loop v1).trips) (v228 : BitVec 32) (v257 : BitVec 32) (k0_t46 : Fin (k0_t46_loop v228 v257).trips) : Fin 5 → Nat :=
  let c1_511 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v481 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v482 : Index := Scalar.indexCast arg19
  let c64 : Index := 64#32
  let c0_512 : Index := 0#32
  ![1, v481.toNat, v482.toNat, 64, 0]
def k0_off1468 (v330 : BitVec 32) : Fin 5 → Nat :=
  let c1_513 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v486 : Index := Scalar.indexCast v347
  let c4 : Index := 4#32
  let c0_514 : Index := 0#32
  let c0_515 : Index := 0#32
  ![1, v486.toNat, 4, 0, 0]
def k0_off1469 (v1 : BitVec 32) (k0_t34 : Fin (k0_t34_loop v1).trips) (v228 : BitVec 32) (v257 : BitVec 32) (k0_t46 : Fin (k0_t46_loop v228 v257).trips) : Fin 5 → Nat :=
  let c1_518 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v503 : Index := Scalar.indexCast v226
  let c4_519 : Index := 4#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v504 : Index := Scalar.indexCast v382
  let c0_520 : Index := 0#32
  ![1, v503.toNat, 4, v504.toNat, 0]
def k0_off1470 (v330 : BitVec 32) : Fin 5 → Nat :=
  let c1_521 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v508 : Index := Scalar.indexCast v347
  let c5 : Index := 5#32
  let c0_522 : Index := 0#32
  let c0_523 : Index := 0#32
  ![1, v508.toNat, 5, 0, 0]
def k0_off1471 (v1 : BitVec 32) (k0_t34 : Fin (k0_t34_loop v1).trips) (v228 : BitVec 32) (v257 : BitVec 32) (k0_t46 : Fin (k0_t46_loop v228 v257).trips) : Fin 5 → Nat :=
  let c1_526 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v525 : Index := Scalar.indexCast v226
  let c5_527 : Index := 5#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v526 : Index := Scalar.indexCast v382
  let c0_528 : Index := 0#32
  ![1, v525.toNat, 5, v526.toNat, 0]
def k0_off1472 (v1 : BitVec 32) (k0_t34 : Fin (k0_t34_loop v1).trips) (v228 : BitVec 32) (v257 : BitVec 32) (k0_t46 : Fin (k0_t46_loop v228 v257).trips) : Fin 5 → Nat :=
  let c1_529 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v530 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v531 : Index := Scalar.indexCast arg19
  let c96 : Index := 96#32
  let c0_530 : Index := 0#32
  ![1, v530.toNat, v531.toNat, 96, 0]
def k0_off1473 (v330 : BitVec 32) : Fin 5 → Nat :=
  let c1_531 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v535 : Index := Scalar.indexCast v347
  let c6 : Index := 6#32
  let c0_532 : Index := 0#32
  let c0_533 : Index := 0#32
  ![1, v535.toNat, 6, 0, 0]
def k0_off1474 (v1 : BitVec 32) (k0_t34 : Fin (k0_t34_loop v1).trips) (v228 : BitVec 32) (v257 : BitVec 32) (k0_t46 : Fin (k0_t46_loop v228 v257).trips) : Fin 5 → Nat :=
  let c1_536 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v552 : Index := Scalar.indexCast v226
  let c6_537 : Index := 6#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v553 : Index := Scalar.indexCast v382
  let c0_538 : Index := 0#32
  ![1, v552.toNat, 6, v553.toNat, 0]
def k0_off1475 (v330 : BitVec 32) : Fin 5 → Nat :=
  let c1_539 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v557 : Index := Scalar.indexCast v347
  let c7 : Index := 7#32
  let c0_540 : Index := 0#32
  let c0_541 : Index := 0#32
  ![1, v557.toNat, 7, 0, 0]
def k0_off1476 (v1 : BitVec 32) (k0_t34 : Fin (k0_t34_loop v1).trips) (v228 : BitVec 32) (v257 : BitVec 32) (k0_t46 : Fin (k0_t46_loop v228 v257).trips) : Fin 5 → Nat :=
  let c1_544 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v574 : Index := Scalar.indexCast v226
  let c7_545 : Index := 7#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v575 : Index := Scalar.indexCast v382
  let c0_546 : Index := 0#32
  ![1, v574.toNat, 7, v575.toNat, 0]
def k0_off1477 (v1 : BitVec 32) (k0_t34 : Fin (k0_t34_loop v1).trips) (v228 : BitVec 32) (v257 : BitVec 32) (k0_t46 : Fin (k0_t46_loop v228 v257).trips) : Fin 5 → Nat :=
  let c1_547 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v579 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v580 : Index := Scalar.indexCast arg19
  let c128 : Index := 128#32
  let c0_548 : Index := 0#32
  ![1, v579.toNat, v580.toNat, 128, 0]
def k0_off1478 (v330 : BitVec 32) : Fin 5 → Nat :=
  let c1_549 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v584 : Index := Scalar.indexCast v347
  let c8 : Index := 8#32
  let c0_550 : Index := 0#32
  let c0_551 : Index := 0#32
  ![1, v584.toNat, 8, 0, 0]
def k0_off1479 (v1 : BitVec 32) (k0_t34 : Fin (k0_t34_loop v1).trips) (v228 : BitVec 32) (v257 : BitVec 32) (k0_t46 : Fin (k0_t46_loop v228 v257).trips) : Fin 5 → Nat :=
  let c1_554 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v601 : Index := Scalar.indexCast v226
  let c8_555 : Index := 8#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v602 : Index := Scalar.indexCast v382
  let c0_556 : Index := 0#32
  ![1, v601.toNat, 8, v602.toNat, 0]
def k0_off1480 (v330 : BitVec 32) : Fin 5 → Nat :=
  let c1_557 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v606 : Index := Scalar.indexCast v347
  let c9 : Index := 9#32
  let c0_558 : Index := 0#32
  let c0_559 : Index := 0#32
  ![1, v606.toNat, 9, 0, 0]
def k0_off1481 (v1 : BitVec 32) (k0_t34 : Fin (k0_t34_loop v1).trips) (v228 : BitVec 32) (v257 : BitVec 32) (k0_t46 : Fin (k0_t46_loop v228 v257).trips) : Fin 5 → Nat :=
  let c1_562 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v623 : Index := Scalar.indexCast v226
  let c9_563 : Index := 9#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v624 : Index := Scalar.indexCast v382
  let c0_564 : Index := 0#32
  ![1, v623.toNat, 9, v624.toNat, 0]
def k0_off1482 (v1 : BitVec 32) (k0_t34 : Fin (k0_t34_loop v1).trips) (v228 : BitVec 32) (v257 : BitVec 32) (k0_t46 : Fin (k0_t46_loop v228 v257).trips) : Fin 5 → Nat :=
  let c1_565 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v628 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v629 : Index := Scalar.indexCast arg19
  let c160 : Index := 160#32
  let c0_566 : Index := 0#32
  ![1, v628.toNat, v629.toNat, 160, 0]
def k0_off1483 (v330 : BitVec 32) : Fin 5 → Nat :=
  let c1_567 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v633 : Index := Scalar.indexCast v347
  let c10 : Index := 10#32
  let c0_568 : Index := 0#32
  let c0_569 : Index := 0#32
  ![1, v633.toNat, 10, 0, 0]
def k0_off1484 (v1 : BitVec 32) (k0_t34 : Fin (k0_t34_loop v1).trips) (v228 : BitVec 32) (v257 : BitVec 32) (k0_t46 : Fin (k0_t46_loop v228 v257).trips) : Fin 5 → Nat :=
  let c1_572 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v650 : Index := Scalar.indexCast v226
  let c10_573 : Index := 10#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v651 : Index := Scalar.indexCast v382
  let c0_574 : Index := 0#32
  ![1, v650.toNat, 10, v651.toNat, 0]
def k0_off1485 (v330 : BitVec 32) : Fin 5 → Nat :=
  let c1_575 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v655 : Index := Scalar.indexCast v347
  let c11 : Index := 11#32
  let c0_576 : Index := 0#32
  let c0_577 : Index := 0#32
  ![1, v655.toNat, 11, 0, 0]
def k0_off1486 (v1 : BitVec 32) (k0_t34 : Fin (k0_t34_loop v1).trips) (v228 : BitVec 32) (v257 : BitVec 32) (k0_t46 : Fin (k0_t46_loop v228 v257).trips) : Fin 5 → Nat :=
  let c1_580 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v672 : Index := Scalar.indexCast v226
  let c11_581 : Index := 11#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v673 : Index := Scalar.indexCast v382
  let c0_582 : Index := 0#32
  ![1, v672.toNat, 11, v673.toNat, 0]
def k0_off1487 (v1 : BitVec 32) (k0_t34 : Fin (k0_t34_loop v1).trips) (v228 : BitVec 32) (v257 : BitVec 32) (k0_t46 : Fin (k0_t46_loop v228 v257).trips) : Fin 5 → Nat :=
  let c1_583 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v677 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v678 : Index := Scalar.indexCast arg19
  let c192 : Index := 192#32
  let c0_584 : Index := 0#32
  ![1, v677.toNat, v678.toNat, 192, 0]
def k0_off1488 (v330 : BitVec 32) : Fin 5 → Nat :=
  let c1_585 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v682 : Index := Scalar.indexCast v347
  let c12 : Index := 12#32
  let c0_586 : Index := 0#32
  let c0_587 : Index := 0#32
  ![1, v682.toNat, 12, 0, 0]
def k0_off1489 (v1 : BitVec 32) (k0_t34 : Fin (k0_t34_loop v1).trips) (v228 : BitVec 32) (v257 : BitVec 32) (k0_t46 : Fin (k0_t46_loop v228 v257).trips) : Fin 5 → Nat :=
  let c1_590 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v699 : Index := Scalar.indexCast v226
  let c12_591 : Index := 12#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v700 : Index := Scalar.indexCast v382
  let c0_592 : Index := 0#32
  ![1, v699.toNat, 12, v700.toNat, 0]
def k0_off1490 (v330 : BitVec 32) : Fin 5 → Nat :=
  let c1_593 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v704 : Index := Scalar.indexCast v347
  let c13 : Index := 13#32
  let c0_594 : Index := 0#32
  let c0_595 : Index := 0#32
  ![1, v704.toNat, 13, 0, 0]
def k0_off1491 (v1 : BitVec 32) (k0_t34 : Fin (k0_t34_loop v1).trips) (v228 : BitVec 32) (v257 : BitVec 32) (k0_t46 : Fin (k0_t46_loop v228 v257).trips) : Fin 5 → Nat :=
  let c1_598 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v721 : Index := Scalar.indexCast v226
  let c13_599 : Index := 13#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v722 : Index := Scalar.indexCast v382
  let c0_600 : Index := 0#32
  ![1, v721.toNat, 13, v722.toNat, 0]
def k0_off1492 (v1 : BitVec 32) (k0_t34 : Fin (k0_t34_loop v1).trips) (v228 : BitVec 32) (v257 : BitVec 32) (k0_t46 : Fin (k0_t46_loop v228 v257).trips) : Fin 5 → Nat :=
  let c1_601 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v726 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v727 : Index := Scalar.indexCast arg19
  let c224 : Index := 224#32
  let c0_602 : Index := 0#32
  ![1, v726.toNat, v727.toNat, 224, 0]
def k0_off1493 (v330 : BitVec 32) : Fin 5 → Nat :=
  let c1_603 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v731 : Index := Scalar.indexCast v347
  let c14 : Index := 14#32
  let c0_604 : Index := 0#32
  let c0_605 : Index := 0#32
  ![1, v731.toNat, 14, 0, 0]
def k0_off1494 (v1 : BitVec 32) (k0_t34 : Fin (k0_t34_loop v1).trips) (v228 : BitVec 32) (v257 : BitVec 32) (k0_t46 : Fin (k0_t46_loop v228 v257).trips) : Fin 5 → Nat :=
  let c1_608 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v748 : Index := Scalar.indexCast v226
  let c14_609 : Index := 14#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v749 : Index := Scalar.indexCast v382
  let c0_610 : Index := 0#32
  ![1, v748.toNat, 14, v749.toNat, 0]
def k0_off1495 (v330 : BitVec 32) : Fin 5 → Nat :=
  let c1_611 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v753 : Index := Scalar.indexCast v347
  let c15 : Index := 15#32
  let c0_612 : Index := 0#32
  let c0_613 : Index := 0#32
  ![1, v753.toNat, 15, 0, 0]
def k0_off1496 (v1 : BitVec 32) (k0_t34 : Fin (k0_t34_loop v1).trips) (v228 : BitVec 32) (v257 : BitVec 32) (k0_t46 : Fin (k0_t46_loop v228 v257).trips) : Fin 5 → Nat :=
  let c1_616 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v770 : Index := Scalar.indexCast v226
  let c15_617 : Index := 15#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v771 : Index := Scalar.indexCast v382
  let c0_618 : Index := 0#32
  ![1, v770.toNat, 15, v771.toNat, 0]
def k0_off1497 (v1 : BitVec 32) (k0_t34 : Fin (k0_t34_loop v1).trips) (v228 : BitVec 32) (v257 : BitVec 32) (k0_t46 : Fin (k0_t46_loop v228 v257).trips) : Fin 5 → Nat :=
  let c1_619 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v775 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v776 : Index := Scalar.indexCast arg19
  let c256 : Index := 256#32
  let c0_620 : Index := 0#32
  ![1, v775.toNat, v776.toNat, 256, 0]
def k0_off1498 (v330 : BitVec 32) : Fin 5 → Nat :=
  let c1_621 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v780 : Index := Scalar.indexCast v347
  let c16 : Index := 16#32
  let c0_622 : Index := 0#32
  let c0_623 : Index := 0#32
  ![1, v780.toNat, 16, 0, 0]
def k0_off1499 (v1 : BitVec 32) (k0_t34 : Fin (k0_t34_loop v1).trips) (v228 : BitVec 32) (v257 : BitVec 32) (k0_t46 : Fin (k0_t46_loop v228 v257).trips) : Fin 5 → Nat :=
  let c1_626 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v797 : Index := Scalar.indexCast v226
  let c16_627 : Index := 16#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v798 : Index := Scalar.indexCast v382
  let c0_628 : Index := 0#32
  ![1, v797.toNat, 16, v798.toNat, 0]
def k0_off1500 (v330 : BitVec 32) : Fin 5 → Nat :=
  let c1_629 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v802 : Index := Scalar.indexCast v347
  let c17 : Index := 17#32
  let c0_630 : Index := 0#32
  let c0_631 : Index := 0#32
  ![1, v802.toNat, 17, 0, 0]
def k0_off1501 (v1 : BitVec 32) (k0_t34 : Fin (k0_t34_loop v1).trips) (v228 : BitVec 32) (v257 : BitVec 32) (k0_t46 : Fin (k0_t46_loop v228 v257).trips) : Fin 5 → Nat :=
  let c1_634 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v819 : Index := Scalar.indexCast v226
  let c17_635 : Index := 17#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v820 : Index := Scalar.indexCast v382
  let c0_636 : Index := 0#32
  ![1, v819.toNat, 17, v820.toNat, 0]
def k0_off1502 (v1 : BitVec 32) (k0_t34 : Fin (k0_t34_loop v1).trips) (v228 : BitVec 32) (v257 : BitVec 32) (k0_t46 : Fin (k0_t46_loop v228 v257).trips) : Fin 5 → Nat :=
  let c1_637 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v824 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v825 : Index := Scalar.indexCast arg19
  let c288 : Index := 288#32
  let c0_638 : Index := 0#32
  ![1, v824.toNat, v825.toNat, 288, 0]
def k0_off1503 (v330 : BitVec 32) : Fin 5 → Nat :=
  let c1_639 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v829 : Index := Scalar.indexCast v347
  let c18 : Index := 18#32
  let c0_640 : Index := 0#32
  let c0_641 : Index := 0#32
  ![1, v829.toNat, 18, 0, 0]
def k0_off1504 (v1 : BitVec 32) (k0_t34 : Fin (k0_t34_loop v1).trips) (v228 : BitVec 32) (v257 : BitVec 32) (k0_t46 : Fin (k0_t46_loop v228 v257).trips) : Fin 5 → Nat :=
  let c1_644 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v846 : Index := Scalar.indexCast v226
  let c18_645 : Index := 18#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v847 : Index := Scalar.indexCast v382
  let c0_646 : Index := 0#32
  ![1, v846.toNat, 18, v847.toNat, 0]
def k0_off1505 (v330 : BitVec 32) : Fin 5 → Nat :=
  let c1_647 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v851 : Index := Scalar.indexCast v347
  let c19 : Index := 19#32
  let c0_648 : Index := 0#32
  let c0_649 : Index := 0#32
  ![1, v851.toNat, 19, 0, 0]
def k0_off1506 (v1 : BitVec 32) (k0_t34 : Fin (k0_t34_loop v1).trips) (v228 : BitVec 32) (v257 : BitVec 32) (k0_t46 : Fin (k0_t46_loop v228 v257).trips) : Fin 5 → Nat :=
  let c1_652 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v868 : Index := Scalar.indexCast v226
  let c19_653 : Index := 19#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v869 : Index := Scalar.indexCast v382
  let c0_654 : Index := 0#32
  ![1, v868.toNat, 19, v869.toNat, 0]
def k0_off1507 (v1 : BitVec 32) (k0_t34 : Fin (k0_t34_loop v1).trips) (v228 : BitVec 32) (v257 : BitVec 32) (k0_t46 : Fin (k0_t46_loop v228 v257).trips) : Fin 5 → Nat :=
  let c1_655 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v873 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v874 : Index := Scalar.indexCast arg19
  let c320 : Index := 320#32
  let c0_656 : Index := 0#32
  ![1, v873.toNat, v874.toNat, 320, 0]
def k0_off1508 (v330 : BitVec 32) : Fin 5 → Nat :=
  let c1_657 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v878 : Index := Scalar.indexCast v347
  let c20 : Index := 20#32
  let c0_658 : Index := 0#32
  let c0_659 : Index := 0#32
  ![1, v878.toNat, 20, 0, 0]
def k0_off1509 (v1 : BitVec 32) (k0_t34 : Fin (k0_t34_loop v1).trips) (v228 : BitVec 32) (v257 : BitVec 32) (k0_t46 : Fin (k0_t46_loop v228 v257).trips) : Fin 5 → Nat :=
  let c1_662 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v895 : Index := Scalar.indexCast v226
  let c20_663 : Index := 20#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v896 : Index := Scalar.indexCast v382
  let c0_664 : Index := 0#32
  ![1, v895.toNat, 20, v896.toNat, 0]
def k0_off1510 (v330 : BitVec 32) : Fin 5 → Nat :=
  let c1_665 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v900 : Index := Scalar.indexCast v347
  let c21 : Index := 21#32
  let c0_666 : Index := 0#32
  let c0_667 : Index := 0#32
  ![1, v900.toNat, 21, 0, 0]
def k0_off1511 (v1 : BitVec 32) (k0_t34 : Fin (k0_t34_loop v1).trips) (v228 : BitVec 32) (v257 : BitVec 32) (k0_t46 : Fin (k0_t46_loop v228 v257).trips) : Fin 5 → Nat :=
  let c1_670 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v917 : Index := Scalar.indexCast v226
  let c21_671 : Index := 21#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v918 : Index := Scalar.indexCast v382
  let c0_672 : Index := 0#32
  ![1, v917.toNat, 21, v918.toNat, 0]
def k0_off1512 (v1 : BitVec 32) (k0_t34 : Fin (k0_t34_loop v1).trips) (v228 : BitVec 32) (v257 : BitVec 32) (k0_t46 : Fin (k0_t46_loop v228 v257).trips) : Fin 5 → Nat :=
  let c1_673 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v922 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v923 : Index := Scalar.indexCast arg19
  let c352 : Index := 352#32
  let c0_674 : Index := 0#32
  ![1, v922.toNat, v923.toNat, 352, 0]
def k0_off1513 (v330 : BitVec 32) : Fin 5 → Nat :=
  let c1_675 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v927 : Index := Scalar.indexCast v347
  let c22 : Index := 22#32
  let c0_676 : Index := 0#32
  let c0_677 : Index := 0#32
  ![1, v927.toNat, 22, 0, 0]
def k0_off1514 (v1 : BitVec 32) (k0_t34 : Fin (k0_t34_loop v1).trips) (v228 : BitVec 32) (v257 : BitVec 32) (k0_t46 : Fin (k0_t46_loop v228 v257).trips) : Fin 5 → Nat :=
  let c1_680 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v944 : Index := Scalar.indexCast v226
  let c22_681 : Index := 22#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v945 : Index := Scalar.indexCast v382
  let c0_682 : Index := 0#32
  ![1, v944.toNat, 22, v945.toNat, 0]
def k0_off1515 (v330 : BitVec 32) : Fin 5 → Nat :=
  let c1_683 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v949 : Index := Scalar.indexCast v347
  let c23 : Index := 23#32
  let c0_684 : Index := 0#32
  let c0_685 : Index := 0#32
  ![1, v949.toNat, 23, 0, 0]
def k0_off1516 (v1 : BitVec 32) (k0_t34 : Fin (k0_t34_loop v1).trips) (v228 : BitVec 32) (v257 : BitVec 32) (k0_t46 : Fin (k0_t46_loop v228 v257).trips) : Fin 5 → Nat :=
  let c1_688 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v966 : Index := Scalar.indexCast v226
  let c23_689 : Index := 23#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v967 : Index := Scalar.indexCast v382
  let c0_690 : Index := 0#32
  ![1, v966.toNat, 23, v967.toNat, 0]
def k0_off1517 (v1 : BitVec 32) (k0_t34 : Fin (k0_t34_loop v1).trips) (v228 : BitVec 32) (v257 : BitVec 32) (k0_t46 : Fin (k0_t46_loop v228 v257).trips) : Fin 5 → Nat :=
  let c1_691 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v971 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v972 : Index := Scalar.indexCast arg19
  let c384 : Index := 384#32
  let c0_692 : Index := 0#32
  ![1, v971.toNat, v972.toNat, 384, 0]
def k0_off1518 (v330 : BitVec 32) : Fin 5 → Nat :=
  let c1_693 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v976 : Index := Scalar.indexCast v347
  let c24 : Index := 24#32
  let c0_694 : Index := 0#32
  let c0_695 : Index := 0#32
  ![1, v976.toNat, 24, 0, 0]
def k0_off1519 (v1 : BitVec 32) (k0_t34 : Fin (k0_t34_loop v1).trips) (v228 : BitVec 32) (v257 : BitVec 32) (k0_t46 : Fin (k0_t46_loop v228 v257).trips) : Fin 5 → Nat :=
  let c1_698 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v993 : Index := Scalar.indexCast v226
  let c24_699 : Index := 24#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v994 : Index := Scalar.indexCast v382
  let c0_700 : Index := 0#32
  ![1, v993.toNat, 24, v994.toNat, 0]
def k0_off1520 (v330 : BitVec 32) : Fin 5 → Nat :=
  let c1_701 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v998 : Index := Scalar.indexCast v347
  let c25 : Index := 25#32
  let c0_702 : Index := 0#32
  let c0_703 : Index := 0#32
  ![1, v998.toNat, 25, 0, 0]
def k0_off1521 (v1 : BitVec 32) (k0_t34 : Fin (k0_t34_loop v1).trips) (v228 : BitVec 32) (v257 : BitVec 32) (k0_t46 : Fin (k0_t46_loop v228 v257).trips) : Fin 5 → Nat :=
  let c1_706 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1015 : Index := Scalar.indexCast v226
  let c25_707 : Index := 25#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1016 : Index := Scalar.indexCast v382
  let c0_708 : Index := 0#32
  ![1, v1015.toNat, 25, v1016.toNat, 0]
def k0_off1522 (v1 : BitVec 32) (k0_t34 : Fin (k0_t34_loop v1).trips) (v228 : BitVec 32) (v257 : BitVec 32) (k0_t46 : Fin (k0_t46_loop v228 v257).trips) : Fin 5 → Nat :=
  let c1_709 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1020 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v1021 : Index := Scalar.indexCast arg19
  let c416 : Index := 416#32
  let c0_710 : Index := 0#32
  ![1, v1020.toNat, v1021.toNat, 416, 0]
def k0_off1523 (v330 : BitVec 32) : Fin 5 → Nat :=
  let c1_711 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1025 : Index := Scalar.indexCast v347
  let c26 : Index := 26#32
  let c0_712 : Index := 0#32
  let c0_713 : Index := 0#32
  ![1, v1025.toNat, 26, 0, 0]
def k0_off1524 (v1 : BitVec 32) (k0_t34 : Fin (k0_t34_loop v1).trips) (v228 : BitVec 32) (v257 : BitVec 32) (k0_t46 : Fin (k0_t46_loop v228 v257).trips) : Fin 5 → Nat :=
  let c1_716 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1042 : Index := Scalar.indexCast v226
  let c26_717 : Index := 26#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1043 : Index := Scalar.indexCast v382
  let c0_718 : Index := 0#32
  ![1, v1042.toNat, 26, v1043.toNat, 0]
def k0_off1525 (v330 : BitVec 32) : Fin 5 → Nat :=
  let c1_719 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1047 : Index := Scalar.indexCast v347
  let c27 : Index := 27#32
  let c0_720 : Index := 0#32
  let c0_721 : Index := 0#32
  ![1, v1047.toNat, 27, 0, 0]
def k0_off1526 (v1 : BitVec 32) (k0_t34 : Fin (k0_t34_loop v1).trips) (v228 : BitVec 32) (v257 : BitVec 32) (k0_t46 : Fin (k0_t46_loop v228 v257).trips) : Fin 5 → Nat :=
  let c1_724 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1064 : Index := Scalar.indexCast v226
  let c27_725 : Index := 27#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1065 : Index := Scalar.indexCast v382
  let c0_726 : Index := 0#32
  ![1, v1064.toNat, 27, v1065.toNat, 0]
def k0_off1527 (v1 : BitVec 32) (k0_t34 : Fin (k0_t34_loop v1).trips) (v228 : BitVec 32) (v257 : BitVec 32) (k0_t46 : Fin (k0_t46_loop v228 v257).trips) : Fin 5 → Nat :=
  let c1_727 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1069 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v1070 : Index := Scalar.indexCast arg19
  let c448 : Index := 448#32
  let c0_728 : Index := 0#32
  ![1, v1069.toNat, v1070.toNat, 448, 0]
def k0_off1528 (v330 : BitVec 32) : Fin 5 → Nat :=
  let c1_729 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1074 : Index := Scalar.indexCast v347
  let c28 : Index := 28#32
  let c0_730 : Index := 0#32
  let c0_731 : Index := 0#32
  ![1, v1074.toNat, 28, 0, 0]
def k0_off1529 (v1 : BitVec 32) (k0_t34 : Fin (k0_t34_loop v1).trips) (v228 : BitVec 32) (v257 : BitVec 32) (k0_t46 : Fin (k0_t46_loop v228 v257).trips) : Fin 5 → Nat :=
  let c1_734 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1091 : Index := Scalar.indexCast v226
  let c28_735 : Index := 28#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1092 : Index := Scalar.indexCast v382
  let c0_736 : Index := 0#32
  ![1, v1091.toNat, 28, v1092.toNat, 0]
def k0_off1530 (v330 : BitVec 32) : Fin 5 → Nat :=
  let c1_737 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1096 : Index := Scalar.indexCast v347
  let c29 : Index := 29#32
  let c0_738 : Index := 0#32
  let c0_739 : Index := 0#32
  ![1, v1096.toNat, 29, 0, 0]
def k0_off1531 (v1 : BitVec 32) (k0_t34 : Fin (k0_t34_loop v1).trips) (v228 : BitVec 32) (v257 : BitVec 32) (k0_t46 : Fin (k0_t46_loop v228 v257).trips) : Fin 5 → Nat :=
  let c1_742 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1113 : Index := Scalar.indexCast v226
  let c29_743 : Index := 29#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1114 : Index := Scalar.indexCast v382
  let c0_744 : Index := 0#32
  ![1, v1113.toNat, 29, v1114.toNat, 0]
def k0_off1532 (v1 : BitVec 32) (k0_t34 : Fin (k0_t34_loop v1).trips) (v228 : BitVec 32) (v257 : BitVec 32) (k0_t46 : Fin (k0_t46_loop v228 v257).trips) : Fin 5 → Nat :=
  let c1_745 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1118 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v1119 : Index := Scalar.indexCast arg19
  let c480 : Index := 480#32
  let c0_746 : Index := 0#32
  ![1, v1118.toNat, v1119.toNat, 480, 0]
def k0_off1533 (v330 : BitVec 32) : Fin 5 → Nat :=
  let c1_747 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1123 : Index := Scalar.indexCast v347
  let c30 : Index := 30#32
  let c0_748 : Index := 0#32
  let c0_749 : Index := 0#32
  ![1, v1123.toNat, 30, 0, 0]
def k0_off1534 (v1 : BitVec 32) (k0_t34 : Fin (k0_t34_loop v1).trips) (v228 : BitVec 32) (v257 : BitVec 32) (k0_t46 : Fin (k0_t46_loop v228 v257).trips) : Fin 5 → Nat :=
  let c1_752 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1140 : Index := Scalar.indexCast v226
  let c30_753 : Index := 30#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1141 : Index := Scalar.indexCast v382
  let c0_754 : Index := 0#32
  ![1, v1140.toNat, 30, v1141.toNat, 0]
def k0_off1535 (v330 : BitVec 32) : Fin 5 → Nat :=
  let c1_755 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1145 : Index := Scalar.indexCast v347
  let c31 : Index := 31#32
  let c0_756 : Index := 0#32
  let c0_757 : Index := 0#32
  ![1, v1145.toNat, 31, 0, 0]
def k0_off1536 (v1 : BitVec 32) (k0_t34 : Fin (k0_t34_loop v1).trips) (v228 : BitVec 32) (v257 : BitVec 32) (k0_t46 : Fin (k0_t46_loop v228 v257).trips) : Fin 5 → Nat :=
  let c1_760 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1162 : Index := Scalar.indexCast v226
  let c31_761 : Index := 31#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1163 : Index := Scalar.indexCast v382
  let c0_762 : Index := 0#32
  ![1, v1162.toNat, 31, v1163.toNat, 0]
def k0_off1537 (v1 : BitVec 32) (k0_t34 : Fin (k0_t34_loop v1).trips) (v228 : BitVec 32) (v257 : BitVec 32) (k0_t46 : Fin (k0_t46_loop v228 v257).trips) : Fin 5 → Nat :=
  let c1_763 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1167 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v1168 : Index := Scalar.indexCast arg19
  let c512 : Index := 512#32
  let c0_764 : Index := 0#32
  ![1, v1167.toNat, v1168.toNat, 512, 0]
def k0_off1538 (v330 : BitVec 32) : Fin 5 → Nat :=
  let c1_765 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1172 : Index := Scalar.indexCast v347
  let c32_766 : Index := 32#32
  let c0_767 : Index := 0#32
  let c0_768 : Index := 0#32
  ![1, v1172.toNat, 32, 0, 0]
def k0_off1539 (v1 : BitVec 32) (k0_t34 : Fin (k0_t34_loop v1).trips) (v228 : BitVec 32) (v257 : BitVec 32) (k0_t46 : Fin (k0_t46_loop v228 v257).trips) : Fin 5 → Nat :=
  let c1_771 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1189 : Index := Scalar.indexCast v226
  let c32_772 : Index := 32#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1190 : Index := Scalar.indexCast v382
  let c0_773 : Index := 0#32
  ![1, v1189.toNat, 32, v1190.toNat, 0]
def k0_off1540 (v330 : BitVec 32) : Fin 5 → Nat :=
  let c1_774 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1194 : Index := Scalar.indexCast v347
  let c33 : Index := 33#32
  let c0_775 : Index := 0#32
  let c0_776 : Index := 0#32
  ![1, v1194.toNat, 33, 0, 0]
def k0_off1541 (v1 : BitVec 32) (k0_t34 : Fin (k0_t34_loop v1).trips) (v228 : BitVec 32) (v257 : BitVec 32) (k0_t46 : Fin (k0_t46_loop v228 v257).trips) : Fin 5 → Nat :=
  let c1_779 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1211 : Index := Scalar.indexCast v226
  let c33_780 : Index := 33#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1212 : Index := Scalar.indexCast v382
  let c0_781 : Index := 0#32
  ![1, v1211.toNat, 33, v1212.toNat, 0]
def k0_off1542 (v1 : BitVec 32) (k0_t34 : Fin (k0_t34_loop v1).trips) (v228 : BitVec 32) (v257 : BitVec 32) (k0_t46 : Fin (k0_t46_loop v228 v257).trips) : Fin 5 → Nat :=
  let c1_782 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1216 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v1217 : Index := Scalar.indexCast arg19
  let c544 : Index := 544#32
  let c0_783 : Index := 0#32
  ![1, v1216.toNat, v1217.toNat, 544, 0]
def k0_off1543 (v330 : BitVec 32) : Fin 5 → Nat :=
  let c1_784 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1221 : Index := Scalar.indexCast v347
  let c34 : Index := 34#32
  let c0_785 : Index := 0#32
  let c0_786 : Index := 0#32
  ![1, v1221.toNat, 34, 0, 0]
def k0_off1544 (v1 : BitVec 32) (k0_t34 : Fin (k0_t34_loop v1).trips) (v228 : BitVec 32) (v257 : BitVec 32) (k0_t46 : Fin (k0_t46_loop v228 v257).trips) : Fin 5 → Nat :=
  let c1_789 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1238 : Index := Scalar.indexCast v226
  let c34_790 : Index := 34#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1239 : Index := Scalar.indexCast v382
  let c0_791 : Index := 0#32
  ![1, v1238.toNat, 34, v1239.toNat, 0]
def k0_off1545 (v330 : BitVec 32) : Fin 5 → Nat :=
  let c1_792 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1243 : Index := Scalar.indexCast v347
  let c35 : Index := 35#32
  let c0_793 : Index := 0#32
  let c0_794 : Index := 0#32
  ![1, v1243.toNat, 35, 0, 0]
def k0_off1546 (v1 : BitVec 32) (k0_t34 : Fin (k0_t34_loop v1).trips) (v228 : BitVec 32) (v257 : BitVec 32) (k0_t46 : Fin (k0_t46_loop v228 v257).trips) : Fin 5 → Nat :=
  let c1_797 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1260 : Index := Scalar.indexCast v226
  let c35_798 : Index := 35#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1261 : Index := Scalar.indexCast v382
  let c0_799 : Index := 0#32
  ![1, v1260.toNat, 35, v1261.toNat, 0]
def k0_off1547 (v1 : BitVec 32) (k0_t34 : Fin (k0_t34_loop v1).trips) (v228 : BitVec 32) (v257 : BitVec 32) (k0_t46 : Fin (k0_t46_loop v228 v257).trips) : Fin 5 → Nat :=
  let c1_800 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1265 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v1266 : Index := Scalar.indexCast arg19
  let c576 : Index := 576#32
  let c0_801 : Index := 0#32
  ![1, v1265.toNat, v1266.toNat, 576, 0]
def k0_off1548 (v330 : BitVec 32) : Fin 5 → Nat :=
  let c1_802 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1270 : Index := Scalar.indexCast v347
  let c36 : Index := 36#32
  let c0_803 : Index := 0#32
  let c0_804 : Index := 0#32
  ![1, v1270.toNat, 36, 0, 0]
def k0_off1549 (v1 : BitVec 32) (k0_t34 : Fin (k0_t34_loop v1).trips) (v228 : BitVec 32) (v257 : BitVec 32) (k0_t46 : Fin (k0_t46_loop v228 v257).trips) : Fin 5 → Nat :=
  let c1_807 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1287 : Index := Scalar.indexCast v226
  let c36_808 : Index := 36#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1288 : Index := Scalar.indexCast v382
  let c0_809 : Index := 0#32
  ![1, v1287.toNat, 36, v1288.toNat, 0]
def k0_off1550 (v330 : BitVec 32) : Fin 5 → Nat :=
  let c1_810 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1292 : Index := Scalar.indexCast v347
  let c37 : Index := 37#32
  let c0_811 : Index := 0#32
  let c0_812 : Index := 0#32
  ![1, v1292.toNat, 37, 0, 0]
def k0_off1551 (v1 : BitVec 32) (k0_t34 : Fin (k0_t34_loop v1).trips) (v228 : BitVec 32) (v257 : BitVec 32) (k0_t46 : Fin (k0_t46_loop v228 v257).trips) : Fin 5 → Nat :=
  let c1_815 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1309 : Index := Scalar.indexCast v226
  let c37_816 : Index := 37#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1310 : Index := Scalar.indexCast v382
  let c0_817 : Index := 0#32
  ![1, v1309.toNat, 37, v1310.toNat, 0]
def k0_off1552 (v1 : BitVec 32) (k0_t34 : Fin (k0_t34_loop v1).trips) (v228 : BitVec 32) (v257 : BitVec 32) (k0_t46 : Fin (k0_t46_loop v228 v257).trips) : Fin 5 → Nat :=
  let c1_818 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1314 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v1315 : Index := Scalar.indexCast arg19
  let c608 : Index := 608#32
  let c0_819 : Index := 0#32
  ![1, v1314.toNat, v1315.toNat, 608, 0]
def k0_off1553 (v330 : BitVec 32) : Fin 5 → Nat :=
  let c1_820 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1319 : Index := Scalar.indexCast v347
  let c38 : Index := 38#32
  let c0_821 : Index := 0#32
  let c0_822 : Index := 0#32
  ![1, v1319.toNat, 38, 0, 0]
def k0_off1554 (v1 : BitVec 32) (k0_t34 : Fin (k0_t34_loop v1).trips) (v228 : BitVec 32) (v257 : BitVec 32) (k0_t46 : Fin (k0_t46_loop v228 v257).trips) : Fin 5 → Nat :=
  let c1_825 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1336 : Index := Scalar.indexCast v226
  let c38_826 : Index := 38#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1337 : Index := Scalar.indexCast v382
  let c0_827 : Index := 0#32
  ![1, v1336.toNat, 38, v1337.toNat, 0]
def k0_off1555 (v330 : BitVec 32) : Fin 5 → Nat :=
  let c1_828 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1341 : Index := Scalar.indexCast v347
  let c39 : Index := 39#32
  let c0_829 : Index := 0#32
  let c0_830 : Index := 0#32
  ![1, v1341.toNat, 39, 0, 0]
def k0_off1556 (v1 : BitVec 32) (k0_t34 : Fin (k0_t34_loop v1).trips) (v228 : BitVec 32) (v257 : BitVec 32) (k0_t46 : Fin (k0_t46_loop v228 v257).trips) : Fin 5 → Nat :=
  let c1_833 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1358 : Index := Scalar.indexCast v226
  let c39_834 : Index := 39#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1359 : Index := Scalar.indexCast v382
  let c0_835 : Index := 0#32
  ![1, v1358.toNat, 39, v1359.toNat, 0]
def k0_off1557 (v1 : BitVec 32) (k0_t34 : Fin (k0_t34_loop v1).trips) (v228 : BitVec 32) (v257 : BitVec 32) (k0_t46 : Fin (k0_t46_loop v228 v257).trips) : Fin 5 → Nat :=
  let c1_836 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1363 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v1364 : Index := Scalar.indexCast arg19
  let c640 : Index := 640#32
  let c0_837 : Index := 0#32
  ![1, v1363.toNat, v1364.toNat, 640, 0]
def k0_off1558 (v330 : BitVec 32) : Fin 5 → Nat :=
  let c1_838 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1368 : Index := Scalar.indexCast v347
  let c40 : Index := 40#32
  let c0_839 : Index := 0#32
  let c0_840 : Index := 0#32
  ![1, v1368.toNat, 40, 0, 0]
def k0_off1559 (v1 : BitVec 32) (k0_t34 : Fin (k0_t34_loop v1).trips) (v228 : BitVec 32) (v257 : BitVec 32) (k0_t46 : Fin (k0_t46_loop v228 v257).trips) : Fin 5 → Nat :=
  let c1_843 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1385 : Index := Scalar.indexCast v226
  let c40_844 : Index := 40#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1386 : Index := Scalar.indexCast v382
  let c0_845 : Index := 0#32
  ![1, v1385.toNat, 40, v1386.toNat, 0]
def k0_off1560 (v330 : BitVec 32) : Fin 5 → Nat :=
  let c1_846 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1390 : Index := Scalar.indexCast v347
  let c41 : Index := 41#32
  let c0_847 : Index := 0#32
  let c0_848 : Index := 0#32
  ![1, v1390.toNat, 41, 0, 0]
def k0_off1561 (v1 : BitVec 32) (k0_t34 : Fin (k0_t34_loop v1).trips) (v228 : BitVec 32) (v257 : BitVec 32) (k0_t46 : Fin (k0_t46_loop v228 v257).trips) : Fin 5 → Nat :=
  let c1_851 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1407 : Index := Scalar.indexCast v226
  let c41_852 : Index := 41#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1408 : Index := Scalar.indexCast v382
  let c0_853 : Index := 0#32
  ![1, v1407.toNat, 41, v1408.toNat, 0]
def k0_off1562 (v1 : BitVec 32) (k0_t34 : Fin (k0_t34_loop v1).trips) (v228 : BitVec 32) (v257 : BitVec 32) (k0_t46 : Fin (k0_t46_loop v228 v257).trips) : Fin 5 → Nat :=
  let c1_854 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1412 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v1413 : Index := Scalar.indexCast arg19
  let c672 : Index := 672#32
  let c0_855 : Index := 0#32
  ![1, v1412.toNat, v1413.toNat, 672, 0]
def k0_off1563 (v330 : BitVec 32) : Fin 5 → Nat :=
  let c1_856 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1417 : Index := Scalar.indexCast v347
  let c42 : Index := 42#32
  let c0_857 : Index := 0#32
  let c0_858 : Index := 0#32
  ![1, v1417.toNat, 42, 0, 0]
def k0_off1564 (v1 : BitVec 32) (k0_t34 : Fin (k0_t34_loop v1).trips) (v228 : BitVec 32) (v257 : BitVec 32) (k0_t46 : Fin (k0_t46_loop v228 v257).trips) : Fin 5 → Nat :=
  let c1_861 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1434 : Index := Scalar.indexCast v226
  let c42_862 : Index := 42#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1435 : Index := Scalar.indexCast v382
  let c0_863 : Index := 0#32
  ![1, v1434.toNat, 42, v1435.toNat, 0]
def k0_off1565 (v330 : BitVec 32) : Fin 5 → Nat :=
  let c1_864 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1439 : Index := Scalar.indexCast v347
  let c43 : Index := 43#32
  let c0_865 : Index := 0#32
  let c0_866 : Index := 0#32
  ![1, v1439.toNat, 43, 0, 0]
def k0_off1566 (v1 : BitVec 32) (k0_t34 : Fin (k0_t34_loop v1).trips) (v228 : BitVec 32) (v257 : BitVec 32) (k0_t46 : Fin (k0_t46_loop v228 v257).trips) : Fin 5 → Nat :=
  let c1_869 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1456 : Index := Scalar.indexCast v226
  let c43_870 : Index := 43#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1457 : Index := Scalar.indexCast v382
  let c0_871 : Index := 0#32
  ![1, v1456.toNat, 43, v1457.toNat, 0]
def k0_off1567 (v1 : BitVec 32) (k0_t34 : Fin (k0_t34_loop v1).trips) (v228 : BitVec 32) (v257 : BitVec 32) (k0_t46 : Fin (k0_t46_loop v228 v257).trips) : Fin 5 → Nat :=
  let c1_872 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1461 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v1462 : Index := Scalar.indexCast arg19
  let c704 : Index := 704#32
  let c0_873 : Index := 0#32
  ![1, v1461.toNat, v1462.toNat, 704, 0]
def k0_off1568 (v330 : BitVec 32) : Fin 5 → Nat :=
  let c1_874 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1466 : Index := Scalar.indexCast v347
  let c44 : Index := 44#32
  let c0_875 : Index := 0#32
  let c0_876 : Index := 0#32
  ![1, v1466.toNat, 44, 0, 0]
def k0_off1569 (v1 : BitVec 32) (k0_t34 : Fin (k0_t34_loop v1).trips) (v228 : BitVec 32) (v257 : BitVec 32) (k0_t46 : Fin (k0_t46_loop v228 v257).trips) : Fin 5 → Nat :=
  let c1_879 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1483 : Index := Scalar.indexCast v226
  let c44_880 : Index := 44#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1484 : Index := Scalar.indexCast v382
  let c0_881 : Index := 0#32
  ![1, v1483.toNat, 44, v1484.toNat, 0]
def k0_off1570 (v330 : BitVec 32) : Fin 5 → Nat :=
  let c1_882 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1488 : Index := Scalar.indexCast v347
  let c45 : Index := 45#32
  let c0_883 : Index := 0#32
  let c0_884 : Index := 0#32
  ![1, v1488.toNat, 45, 0, 0]
def k0_off1571 (v1 : BitVec 32) (k0_t34 : Fin (k0_t34_loop v1).trips) (v228 : BitVec 32) (v257 : BitVec 32) (k0_t46 : Fin (k0_t46_loop v228 v257).trips) : Fin 5 → Nat :=
  let c1_887 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1505 : Index := Scalar.indexCast v226
  let c45_888 : Index := 45#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1506 : Index := Scalar.indexCast v382
  let c0_889 : Index := 0#32
  ![1, v1505.toNat, 45, v1506.toNat, 0]
def k0_off1572 (v1 : BitVec 32) (k0_t34 : Fin (k0_t34_loop v1).trips) (v228 : BitVec 32) (v257 : BitVec 32) (k0_t46 : Fin (k0_t46_loop v228 v257).trips) : Fin 5 → Nat :=
  let c1_890 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1510 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v1511 : Index := Scalar.indexCast arg19
  let c736 : Index := 736#32
  let c0_891 : Index := 0#32
  ![1, v1510.toNat, v1511.toNat, 736, 0]
def k0_off1573 (v330 : BitVec 32) : Fin 5 → Nat :=
  let c1_892 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1515 : Index := Scalar.indexCast v347
  let c46 : Index := 46#32
  let c0_893 : Index := 0#32
  let c0_894 : Index := 0#32
  ![1, v1515.toNat, 46, 0, 0]
def k0_off1574 (v1 : BitVec 32) (k0_t34 : Fin (k0_t34_loop v1).trips) (v228 : BitVec 32) (v257 : BitVec 32) (k0_t46 : Fin (k0_t46_loop v228 v257).trips) : Fin 5 → Nat :=
  let c1_897 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1532 : Index := Scalar.indexCast v226
  let c46_898 : Index := 46#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1533 : Index := Scalar.indexCast v382
  let c0_899 : Index := 0#32
  ![1, v1532.toNat, 46, v1533.toNat, 0]
def k0_off1575 (v330 : BitVec 32) : Fin 5 → Nat :=
  let c1_900 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1537 : Index := Scalar.indexCast v347
  let c47 : Index := 47#32
  let c0_901 : Index := 0#32
  let c0_902 : Index := 0#32
  ![1, v1537.toNat, 47, 0, 0]
def k0_off1576 (v1 : BitVec 32) (k0_t34 : Fin (k0_t34_loop v1).trips) (v228 : BitVec 32) (v257 : BitVec 32) (k0_t46 : Fin (k0_t46_loop v228 v257).trips) : Fin 5 → Nat :=
  let c1_905 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1554 : Index := Scalar.indexCast v226
  let c47_906 : Index := 47#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1555 : Index := Scalar.indexCast v382
  let c0_907 : Index := 0#32
  ![1, v1554.toNat, 47, v1555.toNat, 0]
def k0_off1577 (v1 : BitVec 32) (k0_t34 : Fin (k0_t34_loop v1).trips) (v228 : BitVec 32) (v257 : BitVec 32) (k0_t46 : Fin (k0_t46_loop v228 v257).trips) : Fin 5 → Nat :=
  let c1_908 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1559 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v1560 : Index := Scalar.indexCast arg19
  let c768 : Index := 768#32
  let c0_909 : Index := 0#32
  ![1, v1559.toNat, v1560.toNat, 768, 0]
def k0_off1578 (v330 : BitVec 32) : Fin 5 → Nat :=
  let c1_910 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1564 : Index := Scalar.indexCast v347
  let c48 : Index := 48#32
  let c0_911 : Index := 0#32
  let c0_912 : Index := 0#32
  ![1, v1564.toNat, 48, 0, 0]
def k0_off1579 (v1 : BitVec 32) (k0_t34 : Fin (k0_t34_loop v1).trips) (v228 : BitVec 32) (v257 : BitVec 32) (k0_t46 : Fin (k0_t46_loop v228 v257).trips) : Fin 5 → Nat :=
  let c1_915 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1581 : Index := Scalar.indexCast v226
  let c48_916 : Index := 48#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1582 : Index := Scalar.indexCast v382
  let c0_917 : Index := 0#32
  ![1, v1581.toNat, 48, v1582.toNat, 0]
def k0_off1580 (v330 : BitVec 32) : Fin 5 → Nat :=
  let c1_918 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1586 : Index := Scalar.indexCast v347
  let c49 : Index := 49#32
  let c0_919 : Index := 0#32
  let c0_920 : Index := 0#32
  ![1, v1586.toNat, 49, 0, 0]
def k0_off1581 (v1 : BitVec 32) (k0_t34 : Fin (k0_t34_loop v1).trips) (v228 : BitVec 32) (v257 : BitVec 32) (k0_t46 : Fin (k0_t46_loop v228 v257).trips) : Fin 5 → Nat :=
  let c1_923 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1603 : Index := Scalar.indexCast v226
  let c49_924 : Index := 49#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1604 : Index := Scalar.indexCast v382
  let c0_925 : Index := 0#32
  ![1, v1603.toNat, 49, v1604.toNat, 0]
def k0_off1582 (v1 : BitVec 32) (k0_t34 : Fin (k0_t34_loop v1).trips) (v228 : BitVec 32) (v257 : BitVec 32) (k0_t46 : Fin (k0_t46_loop v228 v257).trips) : Fin 5 → Nat :=
  let c1_926 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1608 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v1609 : Index := Scalar.indexCast arg19
  let c800 : Index := 800#32
  let c0_927 : Index := 0#32
  ![1, v1608.toNat, v1609.toNat, 800, 0]
def k0_off1583 (v330 : BitVec 32) : Fin 5 → Nat :=
  let c1_928 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1613 : Index := Scalar.indexCast v347
  let c50 : Index := 50#32
  let c0_929 : Index := 0#32
  let c0_930 : Index := 0#32
  ![1, v1613.toNat, 50, 0, 0]
def k0_off1584 (v1 : BitVec 32) (k0_t34 : Fin (k0_t34_loop v1).trips) (v228 : BitVec 32) (v257 : BitVec 32) (k0_t46 : Fin (k0_t46_loop v228 v257).trips) : Fin 5 → Nat :=
  let c1_933 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1630 : Index := Scalar.indexCast v226
  let c50_934 : Index := 50#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1631 : Index := Scalar.indexCast v382
  let c0_935 : Index := 0#32
  ![1, v1630.toNat, 50, v1631.toNat, 0]
def k0_off1585 (v330 : BitVec 32) : Fin 5 → Nat :=
  let c1_936 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1635 : Index := Scalar.indexCast v347
  let c51 : Index := 51#32
  let c0_937 : Index := 0#32
  let c0_938 : Index := 0#32
  ![1, v1635.toNat, 51, 0, 0]
def k0_off1586 (v1 : BitVec 32) (k0_t34 : Fin (k0_t34_loop v1).trips) (v228 : BitVec 32) (v257 : BitVec 32) (k0_t46 : Fin (k0_t46_loop v228 v257).trips) : Fin 5 → Nat :=
  let c1_941 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1652 : Index := Scalar.indexCast v226
  let c51_942 : Index := 51#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1653 : Index := Scalar.indexCast v382
  let c0_943 : Index := 0#32
  ![1, v1652.toNat, 51, v1653.toNat, 0]
def k0_off1587 (v1 : BitVec 32) (k0_t34 : Fin (k0_t34_loop v1).trips) (v228 : BitVec 32) (v257 : BitVec 32) (k0_t46 : Fin (k0_t46_loop v228 v257).trips) : Fin 5 → Nat :=
  let c1_944 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1657 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v1658 : Index := Scalar.indexCast arg19
  let c832 : Index := 832#32
  let c0_945 : Index := 0#32
  ![1, v1657.toNat, v1658.toNat, 832, 0]
def k0_off1588 (v330 : BitVec 32) : Fin 5 → Nat :=
  let c1_946 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1662 : Index := Scalar.indexCast v347
  let c52 : Index := 52#32
  let c0_947 : Index := 0#32
  let c0_948 : Index := 0#32
  ![1, v1662.toNat, 52, 0, 0]
def k0_off1589 (v1 : BitVec 32) (k0_t34 : Fin (k0_t34_loop v1).trips) (v228 : BitVec 32) (v257 : BitVec 32) (k0_t46 : Fin (k0_t46_loop v228 v257).trips) : Fin 5 → Nat :=
  let c1_951 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1679 : Index := Scalar.indexCast v226
  let c52_952 : Index := 52#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1680 : Index := Scalar.indexCast v382
  let c0_953 : Index := 0#32
  ![1, v1679.toNat, 52, v1680.toNat, 0]
def k0_off1590 (v330 : BitVec 32) : Fin 5 → Nat :=
  let c1_954 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1684 : Index := Scalar.indexCast v347
  let c53 : Index := 53#32
  let c0_955 : Index := 0#32
  let c0_956 : Index := 0#32
  ![1, v1684.toNat, 53, 0, 0]
def k0_off1591 (v1 : BitVec 32) (k0_t34 : Fin (k0_t34_loop v1).trips) (v228 : BitVec 32) (v257 : BitVec 32) (k0_t46 : Fin (k0_t46_loop v228 v257).trips) : Fin 5 → Nat :=
  let c1_959 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1701 : Index := Scalar.indexCast v226
  let c53_960 : Index := 53#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1702 : Index := Scalar.indexCast v382
  let c0_961 : Index := 0#32
  ![1, v1701.toNat, 53, v1702.toNat, 0]
def k0_off1592 (v1 : BitVec 32) (k0_t34 : Fin (k0_t34_loop v1).trips) (v228 : BitVec 32) (v257 : BitVec 32) (k0_t46 : Fin (k0_t46_loop v228 v257).trips) : Fin 5 → Nat :=
  let c1_962 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1706 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v1707 : Index := Scalar.indexCast arg19
  let c864 : Index := 864#32
  let c0_963 : Index := 0#32
  ![1, v1706.toNat, v1707.toNat, 864, 0]
def k0_off1593 (v330 : BitVec 32) : Fin 5 → Nat :=
  let c1_964 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1711 : Index := Scalar.indexCast v347
  let c54 : Index := 54#32
  let c0_965 : Index := 0#32
  let c0_966 : Index := 0#32
  ![1, v1711.toNat, 54, 0, 0]
def k0_off1594 (v1 : BitVec 32) (k0_t34 : Fin (k0_t34_loop v1).trips) (v228 : BitVec 32) (v257 : BitVec 32) (k0_t46 : Fin (k0_t46_loop v228 v257).trips) : Fin 5 → Nat :=
  let c1_969 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1728 : Index := Scalar.indexCast v226
  let c54_970 : Index := 54#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1729 : Index := Scalar.indexCast v382
  let c0_971 : Index := 0#32
  ![1, v1728.toNat, 54, v1729.toNat, 0]
def k0_off1595 (v330 : BitVec 32) : Fin 5 → Nat :=
  let c1_972 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1733 : Index := Scalar.indexCast v347
  let c55 : Index := 55#32
  let c0_973 : Index := 0#32
  let c0_974 : Index := 0#32
  ![1, v1733.toNat, 55, 0, 0]
def k0_off1596 (v1 : BitVec 32) (k0_t34 : Fin (k0_t34_loop v1).trips) (v228 : BitVec 32) (v257 : BitVec 32) (k0_t46 : Fin (k0_t46_loop v228 v257).trips) : Fin 5 → Nat :=
  let c1_977 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1750 : Index := Scalar.indexCast v226
  let c55_978 : Index := 55#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1751 : Index := Scalar.indexCast v382
  let c0_979 : Index := 0#32
  ![1, v1750.toNat, 55, v1751.toNat, 0]
def k0_off1597 (v1 : BitVec 32) (k0_t34 : Fin (k0_t34_loop v1).trips) (v228 : BitVec 32) (v257 : BitVec 32) (k0_t46 : Fin (k0_t46_loop v228 v257).trips) : Fin 5 → Nat :=
  let c1_980 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1755 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v1756 : Index := Scalar.indexCast arg19
  let c896 : Index := 896#32
  let c0_981 : Index := 0#32
  ![1, v1755.toNat, v1756.toNat, 896, 0]
def k0_off1598 (v330 : BitVec 32) : Fin 5 → Nat :=
  let c1_982 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1760 : Index := Scalar.indexCast v347
  let c56 : Index := 56#32
  let c0_983 : Index := 0#32
  let c0_984 : Index := 0#32
  ![1, v1760.toNat, 56, 0, 0]
def k0_off1599 (v1 : BitVec 32) (k0_t34 : Fin (k0_t34_loop v1).trips) (v228 : BitVec 32) (v257 : BitVec 32) (k0_t46 : Fin (k0_t46_loop v228 v257).trips) : Fin 5 → Nat :=
  let c1_987 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1777 : Index := Scalar.indexCast v226
  let c56_988 : Index := 56#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1778 : Index := Scalar.indexCast v382
  let c0_989 : Index := 0#32
  ![1, v1777.toNat, 56, v1778.toNat, 0]
def k0_off1600 (v330 : BitVec 32) : Fin 5 → Nat :=
  let c1_990 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1782 : Index := Scalar.indexCast v347
  let c57 : Index := 57#32
  let c0_991 : Index := 0#32
  let c0_992 : Index := 0#32
  ![1, v1782.toNat, 57, 0, 0]
def k0_off1601 (v1 : BitVec 32) (k0_t34 : Fin (k0_t34_loop v1).trips) (v228 : BitVec 32) (v257 : BitVec 32) (k0_t46 : Fin (k0_t46_loop v228 v257).trips) : Fin 5 → Nat :=
  let c1_995 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1799 : Index := Scalar.indexCast v226
  let c57_996 : Index := 57#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1800 : Index := Scalar.indexCast v382
  let c0_997 : Index := 0#32
  ![1, v1799.toNat, 57, v1800.toNat, 0]
def k0_off1602 (v1 : BitVec 32) (k0_t34 : Fin (k0_t34_loop v1).trips) (v228 : BitVec 32) (v257 : BitVec 32) (k0_t46 : Fin (k0_t46_loop v228 v257).trips) : Fin 5 → Nat :=
  let c1_998 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1804 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v1805 : Index := Scalar.indexCast arg19
  let c928 : Index := 928#32
  let c0_999 : Index := 0#32
  ![1, v1804.toNat, v1805.toNat, 928, 0]
def k0_off1603 (v330 : BitVec 32) : Fin 5 → Nat :=
  let c1_1000 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1809 : Index := Scalar.indexCast v347
  let c58 : Index := 58#32
  let c0_1001 : Index := 0#32
  let c0_1002 : Index := 0#32
  ![1, v1809.toNat, 58, 0, 0]
def k0_off1604 (v1 : BitVec 32) (k0_t34 : Fin (k0_t34_loop v1).trips) (v228 : BitVec 32) (v257 : BitVec 32) (k0_t46 : Fin (k0_t46_loop v228 v257).trips) : Fin 5 → Nat :=
  let c1_1005 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1826 : Index := Scalar.indexCast v226
  let c58_1006 : Index := 58#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1827 : Index := Scalar.indexCast v382
  let c0_1007 : Index := 0#32
  ![1, v1826.toNat, 58, v1827.toNat, 0]
def k0_off1605 (v330 : BitVec 32) : Fin 5 → Nat :=
  let c1_1008 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1831 : Index := Scalar.indexCast v347
  let c59 : Index := 59#32
  let c0_1009 : Index := 0#32
  let c0_1010 : Index := 0#32
  ![1, v1831.toNat, 59, 0, 0]
def k0_off1606 (v1 : BitVec 32) (k0_t34 : Fin (k0_t34_loop v1).trips) (v228 : BitVec 32) (v257 : BitVec 32) (k0_t46 : Fin (k0_t46_loop v228 v257).trips) : Fin 5 → Nat :=
  let c1_1013 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1848 : Index := Scalar.indexCast v226
  let c59_1014 : Index := 59#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1849 : Index := Scalar.indexCast v382
  let c0_1015 : Index := 0#32
  ![1, v1848.toNat, 59, v1849.toNat, 0]
def k0_off1607 (v1 : BitVec 32) (k0_t34 : Fin (k0_t34_loop v1).trips) (v228 : BitVec 32) (v257 : BitVec 32) (k0_t46 : Fin (k0_t46_loop v228 v257).trips) : Fin 5 → Nat :=
  let c1_1016 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1853 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v1854 : Index := Scalar.indexCast arg19
  let c960 : Index := 960#32
  let c0_1017 : Index := 0#32
  ![1, v1853.toNat, v1854.toNat, 960, 0]
def k0_off1608 (v330 : BitVec 32) : Fin 5 → Nat :=
  let c1_1018 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1858 : Index := Scalar.indexCast v347
  let c60 : Index := 60#32
  let c0_1019 : Index := 0#32
  let c0_1020 : Index := 0#32
  ![1, v1858.toNat, 60, 0, 0]
def k0_off1609 (v1 : BitVec 32) (k0_t34 : Fin (k0_t34_loop v1).trips) (v228 : BitVec 32) (v257 : BitVec 32) (k0_t46 : Fin (k0_t46_loop v228 v257).trips) : Fin 5 → Nat :=
  let c1_1023 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1875 : Index := Scalar.indexCast v226
  let c60_1024 : Index := 60#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1876 : Index := Scalar.indexCast v382
  let c0_1025 : Index := 0#32
  ![1, v1875.toNat, 60, v1876.toNat, 0]
def k0_off1610 (v330 : BitVec 32) : Fin 5 → Nat :=
  let c1_1026 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1880 : Index := Scalar.indexCast v347
  let c61 : Index := 61#32
  let c0_1027 : Index := 0#32
  let c0_1028 : Index := 0#32
  ![1, v1880.toNat, 61, 0, 0]
def k0_off1611 (v1 : BitVec 32) (k0_t34 : Fin (k0_t34_loop v1).trips) (v228 : BitVec 32) (v257 : BitVec 32) (k0_t46 : Fin (k0_t46_loop v228 v257).trips) : Fin 5 → Nat :=
  let c1_1031 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1897 : Index := Scalar.indexCast v226
  let c61_1032 : Index := 61#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1898 : Index := Scalar.indexCast v382
  let c0_1033 : Index := 0#32
  ![1, v1897.toNat, 61, v1898.toNat, 0]
def k0_off1612 (v1 : BitVec 32) (k0_t34 : Fin (k0_t34_loop v1).trips) (v228 : BitVec 32) (v257 : BitVec 32) (k0_t46 : Fin (k0_t46_loop v228 v257).trips) : Fin 5 → Nat :=
  let c1_1034 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1902 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v1903 : Index := Scalar.indexCast arg19
  let c992 : Index := 992#32
  let c0_1035 : Index := 0#32
  ![1, v1902.toNat, v1903.toNat, 992, 0]
def k0_off1613 (v330 : BitVec 32) : Fin 5 → Nat :=
  let c1_1036 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1907 : Index := Scalar.indexCast v347
  let c62 : Index := 62#32
  let c0_1037 : Index := 0#32
  let c0_1038 : Index := 0#32
  ![1, v1907.toNat, 62, 0, 0]
def k0_off1614 (v1 : BitVec 32) (k0_t34 : Fin (k0_t34_loop v1).trips) (v228 : BitVec 32) (v257 : BitVec 32) (k0_t46 : Fin (k0_t46_loop v228 v257).trips) : Fin 5 → Nat :=
  let c1_1041 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1924 : Index := Scalar.indexCast v226
  let c62_1042 : Index := 62#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1925 : Index := Scalar.indexCast v382
  let c0_1043 : Index := 0#32
  ![1, v1924.toNat, 62, v1925.toNat, 0]
def k0_off1615 (v330 : BitVec 32) : Fin 5 → Nat :=
  let c1_1044 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1929 : Index := Scalar.indexCast v347
  let c63 : Index := 63#32
  let c0_1045 : Index := 0#32
  let c0_1046 : Index := 0#32
  ![1, v1929.toNat, 63, 0, 0]
def k0_off1616 (v1 : BitVec 32) (k0_t34 : Fin (k0_t34_loop v1).trips) (v228 : BitVec 32) (v257 : BitVec 32) (k0_t46 : Fin (k0_t46_loop v228 v257).trips) : Fin 5 → Nat :=
  let c1_1049 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1946 : Index := Scalar.indexCast v226
  let c63_1050 : Index := 63#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1947 : Index := Scalar.indexCast v382
  let c0_1051 : Index := 0#32
  ![1, v1946.toNat, 63, v1947.toNat, 0]
def k0_off1617 (v1 : BitVec 32) (k0_t34 : Fin (k0_t34_loop v1).trips) (v228 : BitVec 32) (v257 : BitVec 32) (k0_t46 : Fin (k0_t46_loop v228 v257).trips) : Fin 5 → Nat :=
  let c1_1052 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1951 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v1952 : Index := Scalar.indexCast arg19
  let c1024 : Index := 1024#32
  let c0_1053 : Index := 0#32
  ![1, v1951.toNat, v1952.toNat, 1024, 0]
def k0_off1618 (v330 : BitVec 32) : Fin 5 → Nat :=
  let c1_1054 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1956 : Index := Scalar.indexCast v347
  let c64_1055 : Index := 64#32
  let c0_1056 : Index := 0#32
  let c0_1057 : Index := 0#32
  ![1, v1956.toNat, 64, 0, 0]
def k0_off1619 (v1 : BitVec 32) (k0_t34 : Fin (k0_t34_loop v1).trips) (v228 : BitVec 32) (v257 : BitVec 32) (k0_t46 : Fin (k0_t46_loop v228 v257).trips) : Fin 5 → Nat :=
  let c1_1060 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1973 : Index := Scalar.indexCast v226
  let c64_1061 : Index := 64#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1974 : Index := Scalar.indexCast v382
  let c0_1062 : Index := 0#32
  ![1, v1973.toNat, 64, v1974.toNat, 0]
def k0_off1620 (v330 : BitVec 32) : Fin 5 → Nat :=
  let c1_1063 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1978 : Index := Scalar.indexCast v347
  let c65 : Index := 65#32
  let c0_1064 : Index := 0#32
  let c0_1065 : Index := 0#32
  ![1, v1978.toNat, 65, 0, 0]
def k0_off1621 (v1 : BitVec 32) (k0_t34 : Fin (k0_t34_loop v1).trips) (v228 : BitVec 32) (v257 : BitVec 32) (k0_t46 : Fin (k0_t46_loop v228 v257).trips) : Fin 5 → Nat :=
  let c1_1068 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v1995 : Index := Scalar.indexCast v226
  let c65_1069 : Index := 65#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v1996 : Index := Scalar.indexCast v382
  let c0_1070 : Index := 0#32
  ![1, v1995.toNat, 65, v1996.toNat, 0]
def k0_off1622 (v1 : BitVec 32) (k0_t34 : Fin (k0_t34_loop v1).trips) (v228 : BitVec 32) (v257 : BitVec 32) (k0_t46 : Fin (k0_t46_loop v228 v257).trips) : Fin 5 → Nat :=
  let c1_1071 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2000 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v2001 : Index := Scalar.indexCast arg19
  let c1056 : Index := 1056#32
  let c0_1072 : Index := 0#32
  ![1, v2000.toNat, v2001.toNat, 1056, 0]
def k0_off1623 (v330 : BitVec 32) : Fin 5 → Nat :=
  let c1_1073 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2005 : Index := Scalar.indexCast v347
  let c66 : Index := 66#32
  let c0_1074 : Index := 0#32
  let c0_1075 : Index := 0#32
  ![1, v2005.toNat, 66, 0, 0]
def k0_off1624 (v1 : BitVec 32) (k0_t34 : Fin (k0_t34_loop v1).trips) (v228 : BitVec 32) (v257 : BitVec 32) (k0_t46 : Fin (k0_t46_loop v228 v257).trips) : Fin 5 → Nat :=
  let c1_1078 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2022 : Index := Scalar.indexCast v226
  let c66_1079 : Index := 66#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2023 : Index := Scalar.indexCast v382
  let c0_1080 : Index := 0#32
  ![1, v2022.toNat, 66, v2023.toNat, 0]
def k0_off1625 (v330 : BitVec 32) : Fin 5 → Nat :=
  let c1_1081 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2027 : Index := Scalar.indexCast v347
  let c67 : Index := 67#32
  let c0_1082 : Index := 0#32
  let c0_1083 : Index := 0#32
  ![1, v2027.toNat, 67, 0, 0]
def k0_off1626 (v1 : BitVec 32) (k0_t34 : Fin (k0_t34_loop v1).trips) (v228 : BitVec 32) (v257 : BitVec 32) (k0_t46 : Fin (k0_t46_loop v228 v257).trips) : Fin 5 → Nat :=
  let c1_1086 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2044 : Index := Scalar.indexCast v226
  let c67_1087 : Index := 67#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2045 : Index := Scalar.indexCast v382
  let c0_1088 : Index := 0#32
  ![1, v2044.toNat, 67, v2045.toNat, 0]
def k0_off1627 (v1 : BitVec 32) (k0_t34 : Fin (k0_t34_loop v1).trips) (v228 : BitVec 32) (v257 : BitVec 32) (k0_t46 : Fin (k0_t46_loop v228 v257).trips) : Fin 5 → Nat :=
  let c1_1089 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2049 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v2050 : Index := Scalar.indexCast arg19
  let c1088 : Index := 1088#32
  let c0_1090 : Index := 0#32
  ![1, v2049.toNat, v2050.toNat, 1088, 0]
def k0_off1628 (v330 : BitVec 32) : Fin 5 → Nat :=
  let c1_1091 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2054 : Index := Scalar.indexCast v347
  let c68 : Index := 68#32
  let c0_1092 : Index := 0#32
  let c0_1093 : Index := 0#32
  ![1, v2054.toNat, 68, 0, 0]
def k0_off1629 (v1 : BitVec 32) (k0_t34 : Fin (k0_t34_loop v1).trips) (v228 : BitVec 32) (v257 : BitVec 32) (k0_t46 : Fin (k0_t46_loop v228 v257).trips) : Fin 5 → Nat :=
  let c1_1096 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2071 : Index := Scalar.indexCast v226
  let c68_1097 : Index := 68#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2072 : Index := Scalar.indexCast v382
  let c0_1098 : Index := 0#32
  ![1, v2071.toNat, 68, v2072.toNat, 0]
def k0_off1630 (v330 : BitVec 32) : Fin 5 → Nat :=
  let c1_1099 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2076 : Index := Scalar.indexCast v347
  let c69 : Index := 69#32
  let c0_1100 : Index := 0#32
  let c0_1101 : Index := 0#32
  ![1, v2076.toNat, 69, 0, 0]
def k0_off1631 (v1 : BitVec 32) (k0_t34 : Fin (k0_t34_loop v1).trips) (v228 : BitVec 32) (v257 : BitVec 32) (k0_t46 : Fin (k0_t46_loop v228 v257).trips) : Fin 5 → Nat :=
  let c1_1104 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2093 : Index := Scalar.indexCast v226
  let c69_1105 : Index := 69#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2094 : Index := Scalar.indexCast v382
  let c0_1106 : Index := 0#32
  ![1, v2093.toNat, 69, v2094.toNat, 0]
def k0_off1632 (v1 : BitVec 32) (k0_t34 : Fin (k0_t34_loop v1).trips) (v228 : BitVec 32) (v257 : BitVec 32) (k0_t46 : Fin (k0_t46_loop v228 v257).trips) : Fin 5 → Nat :=
  let c1_1107 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2098 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v2099 : Index := Scalar.indexCast arg19
  let c1120 : Index := 1120#32
  let c0_1108 : Index := 0#32
  ![1, v2098.toNat, v2099.toNat, 1120, 0]
def k0_off1633 (v330 : BitVec 32) : Fin 5 → Nat :=
  let c1_1109 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2103 : Index := Scalar.indexCast v347
  let c70 : Index := 70#32
  let c0_1110 : Index := 0#32
  let c0_1111 : Index := 0#32
  ![1, v2103.toNat, 70, 0, 0]
def k0_off1634 (v1 : BitVec 32) (k0_t34 : Fin (k0_t34_loop v1).trips) (v228 : BitVec 32) (v257 : BitVec 32) (k0_t46 : Fin (k0_t46_loop v228 v257).trips) : Fin 5 → Nat :=
  let c1_1114 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2120 : Index := Scalar.indexCast v226
  let c70_1115 : Index := 70#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2121 : Index := Scalar.indexCast v382
  let c0_1116 : Index := 0#32
  ![1, v2120.toNat, 70, v2121.toNat, 0]
def k0_off1635 (v330 : BitVec 32) : Fin 5 → Nat :=
  let c1_1117 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2125 : Index := Scalar.indexCast v347
  let c71 : Index := 71#32
  let c0_1118 : Index := 0#32
  let c0_1119 : Index := 0#32
  ![1, v2125.toNat, 71, 0, 0]
def k0_off1636 (v1 : BitVec 32) (k0_t34 : Fin (k0_t34_loop v1).trips) (v228 : BitVec 32) (v257 : BitVec 32) (k0_t46 : Fin (k0_t46_loop v228 v257).trips) : Fin 5 → Nat :=
  let c1_1122 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2142 : Index := Scalar.indexCast v226
  let c71_1123 : Index := 71#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2143 : Index := Scalar.indexCast v382
  let c0_1124 : Index := 0#32
  ![1, v2142.toNat, 71, v2143.toNat, 0]
def k0_off1637 (v1 : BitVec 32) (k0_t34 : Fin (k0_t34_loop v1).trips) (v228 : BitVec 32) (v257 : BitVec 32) (k0_t46 : Fin (k0_t46_loop v228 v257).trips) : Fin 5 → Nat :=
  let c1_1125 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2147 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v2148 : Index := Scalar.indexCast arg19
  let c1152 : Index := 1152#32
  let c0_1126 : Index := 0#32
  ![1, v2147.toNat, v2148.toNat, 1152, 0]
def k0_off1638 (v330 : BitVec 32) : Fin 5 → Nat :=
  let c1_1127 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2152 : Index := Scalar.indexCast v347
  let c72 : Index := 72#32
  let c0_1128 : Index := 0#32
  let c0_1129 : Index := 0#32
  ![1, v2152.toNat, 72, 0, 0]
def k0_off1639 (v1 : BitVec 32) (k0_t34 : Fin (k0_t34_loop v1).trips) (v228 : BitVec 32) (v257 : BitVec 32) (k0_t46 : Fin (k0_t46_loop v228 v257).trips) : Fin 5 → Nat :=
  let c1_1132 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2169 : Index := Scalar.indexCast v226
  let c72_1133 : Index := 72#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2170 : Index := Scalar.indexCast v382
  let c0_1134 : Index := 0#32
  ![1, v2169.toNat, 72, v2170.toNat, 0]
def k0_off1640 (v330 : BitVec 32) : Fin 5 → Nat :=
  let c1_1135 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2174 : Index := Scalar.indexCast v347
  let c73 : Index := 73#32
  let c0_1136 : Index := 0#32
  let c0_1137 : Index := 0#32
  ![1, v2174.toNat, 73, 0, 0]
def k0_off1641 (v1 : BitVec 32) (k0_t34 : Fin (k0_t34_loop v1).trips) (v228 : BitVec 32) (v257 : BitVec 32) (k0_t46 : Fin (k0_t46_loop v228 v257).trips) : Fin 5 → Nat :=
  let c1_1140 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2191 : Index := Scalar.indexCast v226
  let c73_1141 : Index := 73#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2192 : Index := Scalar.indexCast v382
  let c0_1142 : Index := 0#32
  ![1, v2191.toNat, 73, v2192.toNat, 0]
def k0_off1642 (v1 : BitVec 32) (k0_t34 : Fin (k0_t34_loop v1).trips) (v228 : BitVec 32) (v257 : BitVec 32) (k0_t46 : Fin (k0_t46_loop v228 v257).trips) : Fin 5 → Nat :=
  let c1_1143 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2196 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v2197 : Index := Scalar.indexCast arg19
  let c1184 : Index := 1184#32
  let c0_1144 : Index := 0#32
  ![1, v2196.toNat, v2197.toNat, 1184, 0]
def k0_off1643 (v330 : BitVec 32) : Fin 5 → Nat :=
  let c1_1145 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2201 : Index := Scalar.indexCast v347
  let c74 : Index := 74#32
  let c0_1146 : Index := 0#32
  let c0_1147 : Index := 0#32
  ![1, v2201.toNat, 74, 0, 0]
def k0_off1644 (v1 : BitVec 32) (k0_t34 : Fin (k0_t34_loop v1).trips) (v228 : BitVec 32) (v257 : BitVec 32) (k0_t46 : Fin (k0_t46_loop v228 v257).trips) : Fin 5 → Nat :=
  let c1_1150 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2218 : Index := Scalar.indexCast v226
  let c74_1151 : Index := 74#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2219 : Index := Scalar.indexCast v382
  let c0_1152 : Index := 0#32
  ![1, v2218.toNat, 74, v2219.toNat, 0]
def k0_off1645 (v330 : BitVec 32) : Fin 5 → Nat :=
  let c1_1153 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2223 : Index := Scalar.indexCast v347
  let c75 : Index := 75#32
  let c0_1154 : Index := 0#32
  let c0_1155 : Index := 0#32
  ![1, v2223.toNat, 75, 0, 0]
def k0_off1646 (v1 : BitVec 32) (k0_t34 : Fin (k0_t34_loop v1).trips) (v228 : BitVec 32) (v257 : BitVec 32) (k0_t46 : Fin (k0_t46_loop v228 v257).trips) : Fin 5 → Nat :=
  let c1_1158 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2240 : Index := Scalar.indexCast v226
  let c75_1159 : Index := 75#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2241 : Index := Scalar.indexCast v382
  let c0_1160 : Index := 0#32
  ![1, v2240.toNat, 75, v2241.toNat, 0]
def k0_off1647 (v1 : BitVec 32) (k0_t34 : Fin (k0_t34_loop v1).trips) (v228 : BitVec 32) (v257 : BitVec 32) (k0_t46 : Fin (k0_t46_loop v228 v257).trips) : Fin 5 → Nat :=
  let c1_1161 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2245 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v2246 : Index := Scalar.indexCast arg19
  let c1216 : Index := 1216#32
  let c0_1162 : Index := 0#32
  ![1, v2245.toNat, v2246.toNat, 1216, 0]
def k0_off1648 (v330 : BitVec 32) : Fin 5 → Nat :=
  let c1_1163 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2250 : Index := Scalar.indexCast v347
  let c76 : Index := 76#32
  let c0_1164 : Index := 0#32
  let c0_1165 : Index := 0#32
  ![1, v2250.toNat, 76, 0, 0]
def k0_off1649 (v1 : BitVec 32) (k0_t34 : Fin (k0_t34_loop v1).trips) (v228 : BitVec 32) (v257 : BitVec 32) (k0_t46 : Fin (k0_t46_loop v228 v257).trips) : Fin 5 → Nat :=
  let c1_1168 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2267 : Index := Scalar.indexCast v226
  let c76_1169 : Index := 76#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2268 : Index := Scalar.indexCast v382
  let c0_1170 : Index := 0#32
  ![1, v2267.toNat, 76, v2268.toNat, 0]
def k0_off1650 (v330 : BitVec 32) : Fin 5 → Nat :=
  let c1_1171 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2272 : Index := Scalar.indexCast v347
  let c77 : Index := 77#32
  let c0_1172 : Index := 0#32
  let c0_1173 : Index := 0#32
  ![1, v2272.toNat, 77, 0, 0]
def k0_off1651 (v1 : BitVec 32) (k0_t34 : Fin (k0_t34_loop v1).trips) (v228 : BitVec 32) (v257 : BitVec 32) (k0_t46 : Fin (k0_t46_loop v228 v257).trips) : Fin 5 → Nat :=
  let c1_1176 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2289 : Index := Scalar.indexCast v226
  let c77_1177 : Index := 77#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2290 : Index := Scalar.indexCast v382
  let c0_1178 : Index := 0#32
  ![1, v2289.toNat, 77, v2290.toNat, 0]
def k0_off1652 (v1 : BitVec 32) (k0_t34 : Fin (k0_t34_loop v1).trips) (v228 : BitVec 32) (v257 : BitVec 32) (k0_t46 : Fin (k0_t46_loop v228 v257).trips) : Fin 5 → Nat :=
  let c1_1179 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2294 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v2295 : Index := Scalar.indexCast arg19
  let c1248 : Index := 1248#32
  let c0_1180 : Index := 0#32
  ![1, v2294.toNat, v2295.toNat, 1248, 0]
def k0_off1653 (v330 : BitVec 32) : Fin 5 → Nat :=
  let c1_1181 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2299 : Index := Scalar.indexCast v347
  let c78 : Index := 78#32
  let c0_1182 : Index := 0#32
  let c0_1183 : Index := 0#32
  ![1, v2299.toNat, 78, 0, 0]
def k0_off1654 (v1 : BitVec 32) (k0_t34 : Fin (k0_t34_loop v1).trips) (v228 : BitVec 32) (v257 : BitVec 32) (k0_t46 : Fin (k0_t46_loop v228 v257).trips) : Fin 5 → Nat :=
  let c1_1186 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2316 : Index := Scalar.indexCast v226
  let c78_1187 : Index := 78#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2317 : Index := Scalar.indexCast v382
  let c0_1188 : Index := 0#32
  ![1, v2316.toNat, 78, v2317.toNat, 0]
def k0_off1655 (v330 : BitVec 32) : Fin 5 → Nat :=
  let c1_1189 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2321 : Index := Scalar.indexCast v347
  let c79 : Index := 79#32
  let c0_1190 : Index := 0#32
  let c0_1191 : Index := 0#32
  ![1, v2321.toNat, 79, 0, 0]
def k0_off1656 (v1 : BitVec 32) (k0_t34 : Fin (k0_t34_loop v1).trips) (v228 : BitVec 32) (v257 : BitVec 32) (k0_t46 : Fin (k0_t46_loop v228 v257).trips) : Fin 5 → Nat :=
  let c1_1194 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2338 : Index := Scalar.indexCast v226
  let c79_1195 : Index := 79#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2339 : Index := Scalar.indexCast v382
  let c0_1196 : Index := 0#32
  ![1, v2338.toNat, 79, v2339.toNat, 0]
def k0_off1657 (v1 : BitVec 32) (k0_t34 : Fin (k0_t34_loop v1).trips) (v228 : BitVec 32) (v257 : BitVec 32) (k0_t46 : Fin (k0_t46_loop v228 v257).trips) : Fin 5 → Nat :=
  let c1_1197 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2343 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v2344 : Index := Scalar.indexCast arg19
  let c1280 : Index := 1280#32
  let c0_1198 : Index := 0#32
  ![1, v2343.toNat, v2344.toNat, 1280, 0]
def k0_off1658 (v330 : BitVec 32) : Fin 5 → Nat :=
  let c1_1199 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2348 : Index := Scalar.indexCast v347
  let c80 : Index := 80#32
  let c0_1200 : Index := 0#32
  let c0_1201 : Index := 0#32
  ![1, v2348.toNat, 80, 0, 0]
def k0_off1659 (v1 : BitVec 32) (k0_t34 : Fin (k0_t34_loop v1).trips) (v228 : BitVec 32) (v257 : BitVec 32) (k0_t46 : Fin (k0_t46_loop v228 v257).trips) : Fin 5 → Nat :=
  let c1_1204 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2365 : Index := Scalar.indexCast v226
  let c80_1205 : Index := 80#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2366 : Index := Scalar.indexCast v382
  let c0_1206 : Index := 0#32
  ![1, v2365.toNat, 80, v2366.toNat, 0]
def k0_off1660 (v330 : BitVec 32) : Fin 5 → Nat :=
  let c1_1207 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2370 : Index := Scalar.indexCast v347
  let c81 : Index := 81#32
  let c0_1208 : Index := 0#32
  let c0_1209 : Index := 0#32
  ![1, v2370.toNat, 81, 0, 0]
def k0_off1661 (v1 : BitVec 32) (k0_t34 : Fin (k0_t34_loop v1).trips) (v228 : BitVec 32) (v257 : BitVec 32) (k0_t46 : Fin (k0_t46_loop v228 v257).trips) : Fin 5 → Nat :=
  let c1_1212 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2387 : Index := Scalar.indexCast v226
  let c81_1213 : Index := 81#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2388 : Index := Scalar.indexCast v382
  let c0_1214 : Index := 0#32
  ![1, v2387.toNat, 81, v2388.toNat, 0]
def k0_off1662 (v1 : BitVec 32) (k0_t34 : Fin (k0_t34_loop v1).trips) (v228 : BitVec 32) (v257 : BitVec 32) (k0_t46 : Fin (k0_t46_loop v228 v257).trips) : Fin 5 → Nat :=
  let c1_1215 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2392 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v2393 : Index := Scalar.indexCast arg19
  let c1312 : Index := 1312#32
  let c0_1216 : Index := 0#32
  ![1, v2392.toNat, v2393.toNat, 1312, 0]
def k0_off1663 (v330 : BitVec 32) : Fin 5 → Nat :=
  let c1_1217 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2397 : Index := Scalar.indexCast v347
  let c82 : Index := 82#32
  let c0_1218 : Index := 0#32
  let c0_1219 : Index := 0#32
  ![1, v2397.toNat, 82, 0, 0]
def k0_off1664 (v1 : BitVec 32) (k0_t34 : Fin (k0_t34_loop v1).trips) (v228 : BitVec 32) (v257 : BitVec 32) (k0_t46 : Fin (k0_t46_loop v228 v257).trips) : Fin 5 → Nat :=
  let c1_1222 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2414 : Index := Scalar.indexCast v226
  let c82_1223 : Index := 82#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2415 : Index := Scalar.indexCast v382
  let c0_1224 : Index := 0#32
  ![1, v2414.toNat, 82, v2415.toNat, 0]
def k0_off1665 (v330 : BitVec 32) : Fin 5 → Nat :=
  let c1_1225 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2419 : Index := Scalar.indexCast v347
  let c83 : Index := 83#32
  let c0_1226 : Index := 0#32
  let c0_1227 : Index := 0#32
  ![1, v2419.toNat, 83, 0, 0]
def k0_off1666 (v1 : BitVec 32) (k0_t34 : Fin (k0_t34_loop v1).trips) (v228 : BitVec 32) (v257 : BitVec 32) (k0_t46 : Fin (k0_t46_loop v228 v257).trips) : Fin 5 → Nat :=
  let c1_1230 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2436 : Index := Scalar.indexCast v226
  let c83_1231 : Index := 83#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2437 : Index := Scalar.indexCast v382
  let c0_1232 : Index := 0#32
  ![1, v2436.toNat, 83, v2437.toNat, 0]
def k0_off1667 (v1 : BitVec 32) (k0_t34 : Fin (k0_t34_loop v1).trips) (v228 : BitVec 32) (v257 : BitVec 32) (k0_t46 : Fin (k0_t46_loop v228 v257).trips) : Fin 5 → Nat :=
  let c1_1233 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2441 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v2442 : Index := Scalar.indexCast arg19
  let c1344 : Index := 1344#32
  let c0_1234 : Index := 0#32
  ![1, v2441.toNat, v2442.toNat, 1344, 0]
def k0_off1668 (v330 : BitVec 32) : Fin 5 → Nat :=
  let c1_1235 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2446 : Index := Scalar.indexCast v347
  let c84 : Index := 84#32
  let c0_1236 : Index := 0#32
  let c0_1237 : Index := 0#32
  ![1, v2446.toNat, 84, 0, 0]
def k0_off1669 (v1 : BitVec 32) (k0_t34 : Fin (k0_t34_loop v1).trips) (v228 : BitVec 32) (v257 : BitVec 32) (k0_t46 : Fin (k0_t46_loop v228 v257).trips) : Fin 5 → Nat :=
  let c1_1240 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2463 : Index := Scalar.indexCast v226
  let c84_1241 : Index := 84#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2464 : Index := Scalar.indexCast v382
  let c0_1242 : Index := 0#32
  ![1, v2463.toNat, 84, v2464.toNat, 0]
def k0_off1670 (v330 : BitVec 32) : Fin 5 → Nat :=
  let c1_1243 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2468 : Index := Scalar.indexCast v347
  let c85 : Index := 85#32
  let c0_1244 : Index := 0#32
  let c0_1245 : Index := 0#32
  ![1, v2468.toNat, 85, 0, 0]
def k0_off1671 (v1 : BitVec 32) (k0_t34 : Fin (k0_t34_loop v1).trips) (v228 : BitVec 32) (v257 : BitVec 32) (k0_t46 : Fin (k0_t46_loop v228 v257).trips) : Fin 5 → Nat :=
  let c1_1248 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2485 : Index := Scalar.indexCast v226
  let c85_1249 : Index := 85#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2486 : Index := Scalar.indexCast v382
  let c0_1250 : Index := 0#32
  ![1, v2485.toNat, 85, v2486.toNat, 0]
def k0_off1672 (v1 : BitVec 32) (k0_t34 : Fin (k0_t34_loop v1).trips) (v228 : BitVec 32) (v257 : BitVec 32) (k0_t46 : Fin (k0_t46_loop v228 v257).trips) : Fin 5 → Nat :=
  let c1_1251 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2490 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v2491 : Index := Scalar.indexCast arg19
  let c1376 : Index := 1376#32
  let c0_1252 : Index := 0#32
  ![1, v2490.toNat, v2491.toNat, 1376, 0]
def k0_off1673 (v330 : BitVec 32) : Fin 5 → Nat :=
  let c1_1253 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2495 : Index := Scalar.indexCast v347
  let c86 : Index := 86#32
  let c0_1254 : Index := 0#32
  let c0_1255 : Index := 0#32
  ![1, v2495.toNat, 86, 0, 0]
def k0_off1674 (v1 : BitVec 32) (k0_t34 : Fin (k0_t34_loop v1).trips) (v228 : BitVec 32) (v257 : BitVec 32) (k0_t46 : Fin (k0_t46_loop v228 v257).trips) : Fin 5 → Nat :=
  let c1_1258 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2512 : Index := Scalar.indexCast v226
  let c86_1259 : Index := 86#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2513 : Index := Scalar.indexCast v382
  let c0_1260 : Index := 0#32
  ![1, v2512.toNat, 86, v2513.toNat, 0]
def k0_off1675 (v330 : BitVec 32) : Fin 5 → Nat :=
  let c1_1261 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2517 : Index := Scalar.indexCast v347
  let c87 : Index := 87#32
  let c0_1262 : Index := 0#32
  let c0_1263 : Index := 0#32
  ![1, v2517.toNat, 87, 0, 0]
def k0_off1676 (v1 : BitVec 32) (k0_t34 : Fin (k0_t34_loop v1).trips) (v228 : BitVec 32) (v257 : BitVec 32) (k0_t46 : Fin (k0_t46_loop v228 v257).trips) : Fin 5 → Nat :=
  let c1_1266 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2534 : Index := Scalar.indexCast v226
  let c87_1267 : Index := 87#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2535 : Index := Scalar.indexCast v382
  let c0_1268 : Index := 0#32
  ![1, v2534.toNat, 87, v2535.toNat, 0]
def k0_off1677 (v1 : BitVec 32) (k0_t34 : Fin (k0_t34_loop v1).trips) (v228 : BitVec 32) (v257 : BitVec 32) (k0_t46 : Fin (k0_t46_loop v228 v257).trips) : Fin 5 → Nat :=
  let c1_1269 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2539 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v2540 : Index := Scalar.indexCast arg19
  let c1408 : Index := 1408#32
  let c0_1270 : Index := 0#32
  ![1, v2539.toNat, v2540.toNat, 1408, 0]
def k0_off1678 (v330 : BitVec 32) : Fin 5 → Nat :=
  let c1_1271 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2544 : Index := Scalar.indexCast v347
  let c88 : Index := 88#32
  let c0_1272 : Index := 0#32
  let c0_1273 : Index := 0#32
  ![1, v2544.toNat, 88, 0, 0]
def k0_off1679 (v1 : BitVec 32) (k0_t34 : Fin (k0_t34_loop v1).trips) (v228 : BitVec 32) (v257 : BitVec 32) (k0_t46 : Fin (k0_t46_loop v228 v257).trips) : Fin 5 → Nat :=
  let c1_1276 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2561 : Index := Scalar.indexCast v226
  let c88_1277 : Index := 88#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2562 : Index := Scalar.indexCast v382
  let c0_1278 : Index := 0#32
  ![1, v2561.toNat, 88, v2562.toNat, 0]
def k0_off1680 (v330 : BitVec 32) : Fin 5 → Nat :=
  let c1_1279 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2566 : Index := Scalar.indexCast v347
  let c89 : Index := 89#32
  let c0_1280 : Index := 0#32
  let c0_1281 : Index := 0#32
  ![1, v2566.toNat, 89, 0, 0]
def k0_off1681 (v1 : BitVec 32) (k0_t34 : Fin (k0_t34_loop v1).trips) (v228 : BitVec 32) (v257 : BitVec 32) (k0_t46 : Fin (k0_t46_loop v228 v257).trips) : Fin 5 → Nat :=
  let c1_1284 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2583 : Index := Scalar.indexCast v226
  let c89_1285 : Index := 89#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2584 : Index := Scalar.indexCast v382
  let c0_1286 : Index := 0#32
  ![1, v2583.toNat, 89, v2584.toNat, 0]
def k0_off1682 (v1 : BitVec 32) (k0_t34 : Fin (k0_t34_loop v1).trips) (v228 : BitVec 32) (v257 : BitVec 32) (k0_t46 : Fin (k0_t46_loop v228 v257).trips) : Fin 5 → Nat :=
  let c1_1287 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2588 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v2589 : Index := Scalar.indexCast arg19
  let c1440 : Index := 1440#32
  let c0_1288 : Index := 0#32
  ![1, v2588.toNat, v2589.toNat, 1440, 0]
def k0_off1683 (v330 : BitVec 32) : Fin 5 → Nat :=
  let c1_1289 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2593 : Index := Scalar.indexCast v347
  let c90 : Index := 90#32
  let c0_1290 : Index := 0#32
  let c0_1291 : Index := 0#32
  ![1, v2593.toNat, 90, 0, 0]
def k0_off1684 (v1 : BitVec 32) (k0_t34 : Fin (k0_t34_loop v1).trips) (v228 : BitVec 32) (v257 : BitVec 32) (k0_t46 : Fin (k0_t46_loop v228 v257).trips) : Fin 5 → Nat :=
  let c1_1294 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2610 : Index := Scalar.indexCast v226
  let c90_1295 : Index := 90#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2611 : Index := Scalar.indexCast v382
  let c0_1296 : Index := 0#32
  ![1, v2610.toNat, 90, v2611.toNat, 0]
def k0_off1685 (v330 : BitVec 32) : Fin 5 → Nat :=
  let c1_1297 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2615 : Index := Scalar.indexCast v347
  let c91 : Index := 91#32
  let c0_1298 : Index := 0#32
  let c0_1299 : Index := 0#32
  ![1, v2615.toNat, 91, 0, 0]
def k0_off1686 (v1 : BitVec 32) (k0_t34 : Fin (k0_t34_loop v1).trips) (v228 : BitVec 32) (v257 : BitVec 32) (k0_t46 : Fin (k0_t46_loop v228 v257).trips) : Fin 5 → Nat :=
  let c1_1302 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2632 : Index := Scalar.indexCast v226
  let c91_1303 : Index := 91#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2633 : Index := Scalar.indexCast v382
  let c0_1304 : Index := 0#32
  ![1, v2632.toNat, 91, v2633.toNat, 0]
def k0_off1687 (v1 : BitVec 32) (k0_t34 : Fin (k0_t34_loop v1).trips) (v228 : BitVec 32) (v257 : BitVec 32) (k0_t46 : Fin (k0_t46_loop v228 v257).trips) : Fin 5 → Nat :=
  let c1_1305 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2637 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v2638 : Index := Scalar.indexCast arg19
  let c1472 : Index := 1472#32
  let c0_1306 : Index := 0#32
  ![1, v2637.toNat, v2638.toNat, 1472, 0]
def k0_off1688 (v330 : BitVec 32) : Fin 5 → Nat :=
  let c1_1307 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2642 : Index := Scalar.indexCast v347
  let c92 : Index := 92#32
  let c0_1308 : Index := 0#32
  let c0_1309 : Index := 0#32
  ![1, v2642.toNat, 92, 0, 0]
def k0_off1689 (v1 : BitVec 32) (k0_t34 : Fin (k0_t34_loop v1).trips) (v228 : BitVec 32) (v257 : BitVec 32) (k0_t46 : Fin (k0_t46_loop v228 v257).trips) : Fin 5 → Nat :=
  let c1_1312 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2659 : Index := Scalar.indexCast v226
  let c92_1313 : Index := 92#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2660 : Index := Scalar.indexCast v382
  let c0_1314 : Index := 0#32
  ![1, v2659.toNat, 92, v2660.toNat, 0]
def k0_off1690 (v330 : BitVec 32) : Fin 5 → Nat :=
  let c1_1315 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2664 : Index := Scalar.indexCast v347
  let c93 : Index := 93#32
  let c0_1316 : Index := 0#32
  let c0_1317 : Index := 0#32
  ![1, v2664.toNat, 93, 0, 0]
def k0_off1691 (v1 : BitVec 32) (k0_t34 : Fin (k0_t34_loop v1).trips) (v228 : BitVec 32) (v257 : BitVec 32) (k0_t46 : Fin (k0_t46_loop v228 v257).trips) : Fin 5 → Nat :=
  let c1_1320 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2681 : Index := Scalar.indexCast v226
  let c93_1321 : Index := 93#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2682 : Index := Scalar.indexCast v382
  let c0_1322 : Index := 0#32
  ![1, v2681.toNat, 93, v2682.toNat, 0]
def k0_off1692 (v1 : BitVec 32) (k0_t34 : Fin (k0_t34_loop v1).trips) (v228 : BitVec 32) (v257 : BitVec 32) (k0_t46 : Fin (k0_t46_loop v228 v257).trips) : Fin 5 → Nat :=
  let c1_1323 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2686 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v2687 : Index := Scalar.indexCast arg19
  let c1504 : Index := 1504#32
  let c0_1324 : Index := 0#32
  ![1, v2686.toNat, v2687.toNat, 1504, 0]
def k0_off1693 (v330 : BitVec 32) : Fin 5 → Nat :=
  let c1_1325 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2691 : Index := Scalar.indexCast v347
  let c94 : Index := 94#32
  let c0_1326 : Index := 0#32
  let c0_1327 : Index := 0#32
  ![1, v2691.toNat, 94, 0, 0]
def k0_off1694 (v1 : BitVec 32) (k0_t34 : Fin (k0_t34_loop v1).trips) (v228 : BitVec 32) (v257 : BitVec 32) (k0_t46 : Fin (k0_t46_loop v228 v257).trips) : Fin 5 → Nat :=
  let c1_1330 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2708 : Index := Scalar.indexCast v226
  let c94_1331 : Index := 94#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2709 : Index := Scalar.indexCast v382
  let c0_1332 : Index := 0#32
  ![1, v2708.toNat, 94, v2709.toNat, 0]
def k0_off1695 (v330 : BitVec 32) : Fin 5 → Nat :=
  let c1_1333 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2713 : Index := Scalar.indexCast v347
  let c95 : Index := 95#32
  let c0_1334 : Index := 0#32
  let c0_1335 : Index := 0#32
  ![1, v2713.toNat, 95, 0, 0]
def k0_off1696 (v1 : BitVec 32) (k0_t34 : Fin (k0_t34_loop v1).trips) (v228 : BitVec 32) (v257 : BitVec 32) (k0_t46 : Fin (k0_t46_loop v228 v257).trips) : Fin 5 → Nat :=
  let c1_1338 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2730 : Index := Scalar.indexCast v226
  let c95_1339 : Index := 95#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2731 : Index := Scalar.indexCast v382
  let c0_1340 : Index := 0#32
  ![1, v2730.toNat, 95, v2731.toNat, 0]
def k0_off1697 (v1 : BitVec 32) (k0_t34 : Fin (k0_t34_loop v1).trips) (v228 : BitVec 32) (v257 : BitVec 32) (k0_t46 : Fin (k0_t46_loop v228 v257).trips) : Fin 5 → Nat :=
  let c1_1341 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2735 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v2736 : Index := Scalar.indexCast arg19
  let c1536 : Index := 1536#32
  let c0_1342 : Index := 0#32
  ![1, v2735.toNat, v2736.toNat, 1536, 0]
def k0_off1698 (v330 : BitVec 32) : Fin 5 → Nat :=
  let c1_1343 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2740 : Index := Scalar.indexCast v347
  let c96_1344 : Index := 96#32
  let c0_1345 : Index := 0#32
  let c0_1346 : Index := 0#32
  ![1, v2740.toNat, 96, 0, 0]
def k0_off1699 (v1 : BitVec 32) (k0_t34 : Fin (k0_t34_loop v1).trips) (v228 : BitVec 32) (v257 : BitVec 32) (k0_t46 : Fin (k0_t46_loop v228 v257).trips) : Fin 5 → Nat :=
  let c1_1349 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2757 : Index := Scalar.indexCast v226
  let c96_1350 : Index := 96#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2758 : Index := Scalar.indexCast v382
  let c0_1351 : Index := 0#32
  ![1, v2757.toNat, 96, v2758.toNat, 0]
def k0_off1700 (v330 : BitVec 32) : Fin 5 → Nat :=
  let c1_1352 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2762 : Index := Scalar.indexCast v347
  let c97 : Index := 97#32
  let c0_1353 : Index := 0#32
  let c0_1354 : Index := 0#32
  ![1, v2762.toNat, 97, 0, 0]
def k0_off1701 (v1 : BitVec 32) (k0_t34 : Fin (k0_t34_loop v1).trips) (v228 : BitVec 32) (v257 : BitVec 32) (k0_t46 : Fin (k0_t46_loop v228 v257).trips) : Fin 5 → Nat :=
  let c1_1357 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2779 : Index := Scalar.indexCast v226
  let c97_1358 : Index := 97#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2780 : Index := Scalar.indexCast v382
  let c0_1359 : Index := 0#32
  ![1, v2779.toNat, 97, v2780.toNat, 0]
def k0_off1702 (v1 : BitVec 32) (k0_t34 : Fin (k0_t34_loop v1).trips) (v228 : BitVec 32) (v257 : BitVec 32) (k0_t46 : Fin (k0_t46_loop v228 v257).trips) : Fin 5 → Nat :=
  let c1_1360 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2784 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v2785 : Index := Scalar.indexCast arg19
  let c1568 : Index := 1568#32
  let c0_1361 : Index := 0#32
  ![1, v2784.toNat, v2785.toNat, 1568, 0]
def k0_off1703 (v330 : BitVec 32) : Fin 5 → Nat :=
  let c1_1362 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2789 : Index := Scalar.indexCast v347
  let c98 : Index := 98#32
  let c0_1363 : Index := 0#32
  let c0_1364 : Index := 0#32
  ![1, v2789.toNat, 98, 0, 0]
def k0_off1704 (v1 : BitVec 32) (k0_t34 : Fin (k0_t34_loop v1).trips) (v228 : BitVec 32) (v257 : BitVec 32) (k0_t46 : Fin (k0_t46_loop v228 v257).trips) : Fin 5 → Nat :=
  let c1_1367 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2806 : Index := Scalar.indexCast v226
  let c98_1368 : Index := 98#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2807 : Index := Scalar.indexCast v382
  let c0_1369 : Index := 0#32
  ![1, v2806.toNat, 98, v2807.toNat, 0]
def k0_off1705 (v330 : BitVec 32) : Fin 5 → Nat :=
  let c1_1370 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2811 : Index := Scalar.indexCast v347
  let c99 : Index := 99#32
  let c0_1371 : Index := 0#32
  let c0_1372 : Index := 0#32
  ![1, v2811.toNat, 99, 0, 0]
def k0_off1706 (v1 : BitVec 32) (k0_t34 : Fin (k0_t34_loop v1).trips) (v228 : BitVec 32) (v257 : BitVec 32) (k0_t46 : Fin (k0_t46_loop v228 v257).trips) : Fin 5 → Nat :=
  let c1_1375 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2828 : Index := Scalar.indexCast v226
  let c99_1376 : Index := 99#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2829 : Index := Scalar.indexCast v382
  let c0_1377 : Index := 0#32
  ![1, v2828.toNat, 99, v2829.toNat, 0]
def k0_off1707 (v1 : BitVec 32) (k0_t34 : Fin (k0_t34_loop v1).trips) (v228 : BitVec 32) (v257 : BitVec 32) (k0_t46 : Fin (k0_t46_loop v228 v257).trips) : Fin 5 → Nat :=
  let c1_1378 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2833 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v2834 : Index := Scalar.indexCast arg19
  let c1600 : Index := 1600#32
  let c0_1379 : Index := 0#32
  ![1, v2833.toNat, v2834.toNat, 1600, 0]
def k0_off1708 (v330 : BitVec 32) : Fin 5 → Nat :=
  let c1_1380 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2838 : Index := Scalar.indexCast v347
  let c100 : Index := 100#32
  let c0_1381 : Index := 0#32
  let c0_1382 : Index := 0#32
  ![1, v2838.toNat, 100, 0, 0]
def k0_off1709 (v1 : BitVec 32) (k0_t34 : Fin (k0_t34_loop v1).trips) (v228 : BitVec 32) (v257 : BitVec 32) (k0_t46 : Fin (k0_t46_loop v228 v257).trips) : Fin 5 → Nat :=
  let c1_1385 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2855 : Index := Scalar.indexCast v226
  let c100_1386 : Index := 100#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2856 : Index := Scalar.indexCast v382
  let c0_1387 : Index := 0#32
  ![1, v2855.toNat, 100, v2856.toNat, 0]
def k0_off1710 (v330 : BitVec 32) : Fin 5 → Nat :=
  let c1_1388 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2860 : Index := Scalar.indexCast v347
  let c101 : Index := 101#32
  let c0_1389 : Index := 0#32
  let c0_1390 : Index := 0#32
  ![1, v2860.toNat, 101, 0, 0]
def k0_off1711 (v1 : BitVec 32) (k0_t34 : Fin (k0_t34_loop v1).trips) (v228 : BitVec 32) (v257 : BitVec 32) (k0_t46 : Fin (k0_t46_loop v228 v257).trips) : Fin 5 → Nat :=
  let c1_1393 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2877 : Index := Scalar.indexCast v226
  let c101_1394 : Index := 101#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2878 : Index := Scalar.indexCast v382
  let c0_1395 : Index := 0#32
  ![1, v2877.toNat, 101, v2878.toNat, 0]
def k0_off1712 (v1 : BitVec 32) (k0_t34 : Fin (k0_t34_loop v1).trips) (v228 : BitVec 32) (v257 : BitVec 32) (k0_t46 : Fin (k0_t46_loop v228 v257).trips) : Fin 5 → Nat :=
  let c1_1396 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2882 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v2883 : Index := Scalar.indexCast arg19
  let c1632 : Index := 1632#32
  let c0_1397 : Index := 0#32
  ![1, v2882.toNat, v2883.toNat, 1632, 0]
def k0_off1713 (v330 : BitVec 32) : Fin 5 → Nat :=
  let c1_1398 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2887 : Index := Scalar.indexCast v347
  let c102 : Index := 102#32
  let c0_1399 : Index := 0#32
  let c0_1400 : Index := 0#32
  ![1, v2887.toNat, 102, 0, 0]
def k0_off1714 (v1 : BitVec 32) (k0_t34 : Fin (k0_t34_loop v1).trips) (v228 : BitVec 32) (v257 : BitVec 32) (k0_t46 : Fin (k0_t46_loop v228 v257).trips) : Fin 5 → Nat :=
  let c1_1403 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2904 : Index := Scalar.indexCast v226
  let c102_1404 : Index := 102#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2905 : Index := Scalar.indexCast v382
  let c0_1405 : Index := 0#32
  ![1, v2904.toNat, 102, v2905.toNat, 0]
def k0_off1715 (v330 : BitVec 32) : Fin 5 → Nat :=
  let c1_1406 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2909 : Index := Scalar.indexCast v347
  let c103 : Index := 103#32
  let c0_1407 : Index := 0#32
  let c0_1408 : Index := 0#32
  ![1, v2909.toNat, 103, 0, 0]
def k0_off1716 (v1 : BitVec 32) (k0_t34 : Fin (k0_t34_loop v1).trips) (v228 : BitVec 32) (v257 : BitVec 32) (k0_t46 : Fin (k0_t46_loop v228 v257).trips) : Fin 5 → Nat :=
  let c1_1411 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2926 : Index := Scalar.indexCast v226
  let c103_1412 : Index := 103#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2927 : Index := Scalar.indexCast v382
  let c0_1413 : Index := 0#32
  ![1, v2926.toNat, 103, v2927.toNat, 0]
def k0_off1717 (v1 : BitVec 32) (k0_t34 : Fin (k0_t34_loop v1).trips) (v228 : BitVec 32) (v257 : BitVec 32) (k0_t46 : Fin (k0_t46_loop v228 v257).trips) : Fin 5 → Nat :=
  let c1_1414 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2931 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v2932 : Index := Scalar.indexCast arg19
  let c1664 : Index := 1664#32
  let c0_1415 : Index := 0#32
  ![1, v2931.toNat, v2932.toNat, 1664, 0]
def k0_off1718 (v330 : BitVec 32) : Fin 5 → Nat :=
  let c1_1416 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2936 : Index := Scalar.indexCast v347
  let c104 : Index := 104#32
  let c0_1417 : Index := 0#32
  let c0_1418 : Index := 0#32
  ![1, v2936.toNat, 104, 0, 0]
def k0_off1719 (v1 : BitVec 32) (k0_t34 : Fin (k0_t34_loop v1).trips) (v228 : BitVec 32) (v257 : BitVec 32) (k0_t46 : Fin (k0_t46_loop v228 v257).trips) : Fin 5 → Nat :=
  let c1_1421 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2953 : Index := Scalar.indexCast v226
  let c104_1422 : Index := 104#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2954 : Index := Scalar.indexCast v382
  let c0_1423 : Index := 0#32
  ![1, v2953.toNat, 104, v2954.toNat, 0]
def k0_off1720 (v330 : BitVec 32) : Fin 5 → Nat :=
  let c1_1424 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2958 : Index := Scalar.indexCast v347
  let c105 : Index := 105#32
  let c0_1425 : Index := 0#32
  let c0_1426 : Index := 0#32
  ![1, v2958.toNat, 105, 0, 0]
def k0_off1721 (v1 : BitVec 32) (k0_t34 : Fin (k0_t34_loop v1).trips) (v228 : BitVec 32) (v257 : BitVec 32) (k0_t46 : Fin (k0_t46_loop v228 v257).trips) : Fin 5 → Nat :=
  let c1_1429 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2975 : Index := Scalar.indexCast v226
  let c105_1430 : Index := 105#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v2976 : Index := Scalar.indexCast v382
  let c0_1431 : Index := 0#32
  ![1, v2975.toNat, 105, v2976.toNat, 0]
def k0_off1722 (v1 : BitVec 32) (k0_t34 : Fin (k0_t34_loop v1).trips) (v228 : BitVec 32) (v257 : BitVec 32) (k0_t46 : Fin (k0_t46_loop v228 v257).trips) : Fin 5 → Nat :=
  let c1_1432 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v2980 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let v2981 : Index := Scalar.indexCast arg19
  let c1696 : Index := 1696#32
  let c0_1433 : Index := 0#32
  ![1, v2980.toNat, v2981.toNat, 1696, 0]
def k0_off1723 (v330 : BitVec 32) : Fin 5 → Nat :=
  let c1_1434 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2985 : Index := Scalar.indexCast v347
  let c106 : Index := 106#32
  let c0_1435 : Index := 0#32
  let c0_1436 : Index := 0#32
  ![1, v2985.toNat, 106, 0, 0]
def k0_off1724 (v1 : BitVec 32) (k0_t34 : Fin (k0_t34_loop v1).trips) (v228 : BitVec 32) (v257 : BitVec 32) (k0_t46 : Fin (k0_t46_loop v228 v257).trips) : Fin 5 → Nat :=
  let c1_1439 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v3002 : Index := Scalar.indexCast v226
  let c106_1440 : Index := 106#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v3003 : Index := Scalar.indexCast v382
  let c0_1441 : Index := 0#32
  ![1, v3002.toNat, 106, v3003.toNat, 0]
def k0_off1725 (v330 : BitVec 32) : Fin 5 → Nat :=
  let c1_1442 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v3007 : Index := Scalar.indexCast v347
  let c107 : Index := 107#32
  let c0_1443 : Index := 0#32
  let c0_1444 : Index := 0#32
  ![1, v3007.toNat, 107, 0, 0]

def k0_chk29_0 (v330 : BitVec 32) : Prop :=
  (∀ a, (k0_off1458 v330) a + S1x1x1x8x128.size a ≤ S2x10x108x8x128.size a) ∧
  (∀ a, (k0_off1460 v330) a + S1x1x1x8x128.size a ≤ S2x10x108x8x128.size a) ∧
  (∀ a, (k0_off1463 v330) a + S1x1x1x8x128.size a ≤ S2x10x108x8x128.size a) ∧
  (∀ a, (k0_off1465 v330) a + S1x1x1x8x128.size a ≤ S2x10x108x8x128.size a) ∧
  (∀ a, (k0_off1468 v330) a + S1x1x1x8x128.size a ≤ S2x10x108x8x128.size a) ∧
  (∀ a, (k0_off1470 v330) a + S1x1x1x8x128.size a ≤ S2x10x108x8x128.size a) ∧
  (∀ a, (k0_off1473 v330) a + S1x1x1x8x128.size a ≤ S2x10x108x8x128.size a) ∧
  (∀ a, (k0_off1475 v330) a + S1x1x1x8x128.size a ≤ S2x10x108x8x128.size a) ∧
  (∀ a, (k0_off1478 v330) a + S1x1x1x8x128.size a ≤ S2x10x108x8x128.size a) ∧
  (∀ a, (k0_off1480 v330) a + S1x1x1x8x128.size a ≤ S2x10x108x8x128.size a) ∧
  (∀ a, (k0_off1483 v330) a + S1x1x1x8x128.size a ≤ S2x10x108x8x128.size a) ∧
  (∀ a, (k0_off1485 v330) a + S1x1x1x8x128.size a ≤ S2x10x108x8x128.size a) ∧
  (∀ a, (k0_off1488 v330) a + S1x1x1x8x128.size a ≤ S2x10x108x8x128.size a) ∧
  (∀ a, (k0_off1490 v330) a + S1x1x1x8x128.size a ≤ S2x10x108x8x128.size a) ∧
  (∀ a, (k0_off1493 v330) a + S1x1x1x8x128.size a ≤ S2x10x108x8x128.size a) ∧
  (∀ a, (k0_off1495 v330) a + S1x1x1x8x128.size a ≤ S2x10x108x8x128.size a) ∧
  (∀ a, (k0_off1498 v330) a + S1x1x1x8x128.size a ≤ S2x10x108x8x128.size a) ∧
  (∀ a, (k0_off1500 v330) a + S1x1x1x8x128.size a ≤ S2x10x108x8x128.size a) ∧
  (∀ a, (k0_off1503 v330) a + S1x1x1x8x128.size a ≤ S2x10x108x8x128.size a) ∧
  (∀ a, (k0_off1505 v330) a + S1x1x1x8x128.size a ≤ S2x10x108x8x128.size a) ∧
  (∀ a, (k0_off1508 v330) a + S1x1x1x8x128.size a ≤ S2x10x108x8x128.size a) ∧
  (∀ a, (k0_off1510 v330) a + S1x1x1x8x128.size a ≤ S2x10x108x8x128.size a) ∧
  (∀ a, (k0_off1513 v330) a + S1x1x1x8x128.size a ≤ S2x10x108x8x128.size a) ∧
  (∀ a, (k0_off1515 v330) a + S1x1x1x8x128.size a ≤ S2x10x108x8x128.size a) ∧
  (∀ a, (k0_off1518 v330) a + S1x1x1x8x128.size a ≤ S2x10x108x8x128.size a) ∧
  (∀ a, (k0_off1520 v330) a + S1x1x1x8x128.size a ≤ S2x10x108x8x128.size a) ∧
  (∀ a, (k0_off1523 v330) a + S1x1x1x8x128.size a ≤ S2x10x108x8x128.size a) ∧
  (∀ a, (k0_off1525 v330) a + S1x1x1x8x128.size a ≤ S2x10x108x8x128.size a) ∧
  (∀ a, (k0_off1528 v330) a + S1x1x1x8x128.size a ≤ S2x10x108x8x128.size a) ∧
  (∀ a, (k0_off1530 v330) a + S1x1x1x8x128.size a ≤ S2x10x108x8x128.size a) ∧
  (∀ a, (k0_off1533 v330) a + S1x1x1x8x128.size a ≤ S2x10x108x8x128.size a) ∧
  (∀ a, (k0_off1535 v330) a + S1x1x1x8x128.size a ≤ S2x10x108x8x128.size a)
def k0_chk29_1 (v330 : BitVec 32) : Prop :=
  (∀ a, (k0_off1538 v330) a + S1x1x1x8x128.size a ≤ S2x10x108x8x128.size a) ∧
  (∀ a, (k0_off1540 v330) a + S1x1x1x8x128.size a ≤ S2x10x108x8x128.size a) ∧
  (∀ a, (k0_off1543 v330) a + S1x1x1x8x128.size a ≤ S2x10x108x8x128.size a) ∧
  (∀ a, (k0_off1545 v330) a + S1x1x1x8x128.size a ≤ S2x10x108x8x128.size a) ∧
  (∀ a, (k0_off1548 v330) a + S1x1x1x8x128.size a ≤ S2x10x108x8x128.size a) ∧
  (∀ a, (k0_off1550 v330) a + S1x1x1x8x128.size a ≤ S2x10x108x8x128.size a) ∧
  (∀ a, (k0_off1553 v330) a + S1x1x1x8x128.size a ≤ S2x10x108x8x128.size a) ∧
  (∀ a, (k0_off1555 v330) a + S1x1x1x8x128.size a ≤ S2x10x108x8x128.size a) ∧
  (∀ a, (k0_off1558 v330) a + S1x1x1x8x128.size a ≤ S2x10x108x8x128.size a) ∧
  (∀ a, (k0_off1560 v330) a + S1x1x1x8x128.size a ≤ S2x10x108x8x128.size a) ∧
  (∀ a, (k0_off1563 v330) a + S1x1x1x8x128.size a ≤ S2x10x108x8x128.size a) ∧
  (∀ a, (k0_off1565 v330) a + S1x1x1x8x128.size a ≤ S2x10x108x8x128.size a) ∧
  (∀ a, (k0_off1568 v330) a + S1x1x1x8x128.size a ≤ S2x10x108x8x128.size a) ∧
  (∀ a, (k0_off1570 v330) a + S1x1x1x8x128.size a ≤ S2x10x108x8x128.size a) ∧
  (∀ a, (k0_off1573 v330) a + S1x1x1x8x128.size a ≤ S2x10x108x8x128.size a) ∧
  (∀ a, (k0_off1575 v330) a + S1x1x1x8x128.size a ≤ S2x10x108x8x128.size a) ∧
  (∀ a, (k0_off1578 v330) a + S1x1x1x8x128.size a ≤ S2x10x108x8x128.size a) ∧
  (∀ a, (k0_off1580 v330) a + S1x1x1x8x128.size a ≤ S2x10x108x8x128.size a) ∧
  (∀ a, (k0_off1583 v330) a + S1x1x1x8x128.size a ≤ S2x10x108x8x128.size a) ∧
  (∀ a, (k0_off1585 v330) a + S1x1x1x8x128.size a ≤ S2x10x108x8x128.size a) ∧
  (∀ a, (k0_off1588 v330) a + S1x1x1x8x128.size a ≤ S2x10x108x8x128.size a) ∧
  (∀ a, (k0_off1590 v330) a + S1x1x1x8x128.size a ≤ S2x10x108x8x128.size a) ∧
  (∀ a, (k0_off1593 v330) a + S1x1x1x8x128.size a ≤ S2x10x108x8x128.size a) ∧
  (∀ a, (k0_off1595 v330) a + S1x1x1x8x128.size a ≤ S2x10x108x8x128.size a) ∧
  (∀ a, (k0_off1598 v330) a + S1x1x1x8x128.size a ≤ S2x10x108x8x128.size a) ∧
  (∀ a, (k0_off1600 v330) a + S1x1x1x8x128.size a ≤ S2x10x108x8x128.size a) ∧
  (∀ a, (k0_off1603 v330) a + S1x1x1x8x128.size a ≤ S2x10x108x8x128.size a) ∧
  (∀ a, (k0_off1605 v330) a + S1x1x1x8x128.size a ≤ S2x10x108x8x128.size a) ∧
  (∀ a, (k0_off1608 v330) a + S1x1x1x8x128.size a ≤ S2x10x108x8x128.size a) ∧
  (∀ a, (k0_off1610 v330) a + S1x1x1x8x128.size a ≤ S2x10x108x8x128.size a) ∧
  (∀ a, (k0_off1613 v330) a + S1x1x1x8x128.size a ≤ S2x10x108x8x128.size a) ∧
  (∀ a, (k0_off1615 v330) a + S1x1x1x8x128.size a ≤ S2x10x108x8x128.size a)
def k0_chk29_2 (v330 : BitVec 32) : Prop :=
  (∀ a, (k0_off1618 v330) a + S1x1x1x8x128.size a ≤ S2x10x108x8x128.size a) ∧
  (∀ a, (k0_off1620 v330) a + S1x1x1x8x128.size a ≤ S2x10x108x8x128.size a) ∧
  (∀ a, (k0_off1623 v330) a + S1x1x1x8x128.size a ≤ S2x10x108x8x128.size a) ∧
  (∀ a, (k0_off1625 v330) a + S1x1x1x8x128.size a ≤ S2x10x108x8x128.size a) ∧
  (∀ a, (k0_off1628 v330) a + S1x1x1x8x128.size a ≤ S2x10x108x8x128.size a) ∧
  (∀ a, (k0_off1630 v330) a + S1x1x1x8x128.size a ≤ S2x10x108x8x128.size a) ∧
  (∀ a, (k0_off1633 v330) a + S1x1x1x8x128.size a ≤ S2x10x108x8x128.size a) ∧
  (∀ a, (k0_off1635 v330) a + S1x1x1x8x128.size a ≤ S2x10x108x8x128.size a) ∧
  (∀ a, (k0_off1638 v330) a + S1x1x1x8x128.size a ≤ S2x10x108x8x128.size a) ∧
  (∀ a, (k0_off1640 v330) a + S1x1x1x8x128.size a ≤ S2x10x108x8x128.size a) ∧
  (∀ a, (k0_off1643 v330) a + S1x1x1x8x128.size a ≤ S2x10x108x8x128.size a) ∧
  (∀ a, (k0_off1645 v330) a + S1x1x1x8x128.size a ≤ S2x10x108x8x128.size a) ∧
  (∀ a, (k0_off1648 v330) a + S1x1x1x8x128.size a ≤ S2x10x108x8x128.size a) ∧
  (∀ a, (k0_off1650 v330) a + S1x1x1x8x128.size a ≤ S2x10x108x8x128.size a) ∧
  (∀ a, (k0_off1653 v330) a + S1x1x1x8x128.size a ≤ S2x10x108x8x128.size a) ∧
  (∀ a, (k0_off1655 v330) a + S1x1x1x8x128.size a ≤ S2x10x108x8x128.size a) ∧
  (∀ a, (k0_off1658 v330) a + S1x1x1x8x128.size a ≤ S2x10x108x8x128.size a) ∧
  (∀ a, (k0_off1660 v330) a + S1x1x1x8x128.size a ≤ S2x10x108x8x128.size a) ∧
  (∀ a, (k0_off1663 v330) a + S1x1x1x8x128.size a ≤ S2x10x108x8x128.size a) ∧
  (∀ a, (k0_off1665 v330) a + S1x1x1x8x128.size a ≤ S2x10x108x8x128.size a) ∧
  (∀ a, (k0_off1668 v330) a + S1x1x1x8x128.size a ≤ S2x10x108x8x128.size a) ∧
  (∀ a, (k0_off1670 v330) a + S1x1x1x8x128.size a ≤ S2x10x108x8x128.size a) ∧
  (∀ a, (k0_off1673 v330) a + S1x1x1x8x128.size a ≤ S2x10x108x8x128.size a) ∧
  (∀ a, (k0_off1675 v330) a + S1x1x1x8x128.size a ≤ S2x10x108x8x128.size a) ∧
  (∀ a, (k0_off1678 v330) a + S1x1x1x8x128.size a ≤ S2x10x108x8x128.size a) ∧
  (∀ a, (k0_off1680 v330) a + S1x1x1x8x128.size a ≤ S2x10x108x8x128.size a) ∧
  (∀ a, (k0_off1683 v330) a + S1x1x1x8x128.size a ≤ S2x10x108x8x128.size a) ∧
  (∀ a, (k0_off1685 v330) a + S1x1x1x8x128.size a ≤ S2x10x108x8x128.size a) ∧
  (∀ a, (k0_off1688 v330) a + S1x1x1x8x128.size a ≤ S2x10x108x8x128.size a) ∧
  (∀ a, (k0_off1690 v330) a + S1x1x1x8x128.size a ≤ S2x10x108x8x128.size a) ∧
  (∀ a, (k0_off1693 v330) a + S1x1x1x8x128.size a ≤ S2x10x108x8x128.size a) ∧
  (∀ a, (k0_off1695 v330) a + S1x1x1x8x128.size a ≤ S2x10x108x8x128.size a)
def k0_chk29_3 (v330 : BitVec 32) : Prop :=
  (∀ a, (k0_off1698 v330) a + S1x1x1x8x128.size a ≤ S2x10x108x8x128.size a) ∧
  (∀ a, (k0_off1700 v330) a + S1x1x1x8x128.size a ≤ S2x10x108x8x128.size a) ∧
  (∀ a, (k0_off1703 v330) a + S1x1x1x8x128.size a ≤ S2x10x108x8x128.size a) ∧
  (∀ a, (k0_off1705 v330) a + S1x1x1x8x128.size a ≤ S2x10x108x8x128.size a) ∧
  (∀ a, (k0_off1708 v330) a + S1x1x1x8x128.size a ≤ S2x10x108x8x128.size a) ∧
  (∀ a, (k0_off1710 v330) a + S1x1x1x8x128.size a ≤ S2x10x108x8x128.size a) ∧
  (∀ a, (k0_off1713 v330) a + S1x1x1x8x128.size a ≤ S2x10x108x8x128.size a) ∧
  (∀ a, (k0_off1715 v330) a + S1x1x1x8x128.size a ≤ S2x10x108x8x128.size a) ∧
  (∀ a, (k0_off1718 v330) a + S1x1x1x8x128.size a ≤ S2x10x108x8x128.size a) ∧
  (∀ a, (k0_off1720 v330) a + S1x1x1x8x128.size a ≤ S2x10x108x8x128.size a) ∧
  (∀ a, (k0_off1723 v330) a + S1x1x1x8x128.size a ≤ S2x10x108x8x128.size a) ∧
  (∀ a, (k0_off1725 v330) a + S1x1x1x8x128.size a ≤ S2x10x108x8x128.size a)
def k0_chk29 (v330 : BitVec 32) : Prop :=
  k0_chk29_0 v330 ∧
  k0_chk29_1 v330 ∧
  k0_chk29_2 v330 ∧
  k0_chk29_3 v330
theorem k0_off1458_inb : ∀ (v330 : BitVec 32) (k0_hw29 : k0_chk29 v330), ∀ a, (k0_off1458 v330) a + S1x1x1x8x128.size a ≤ S2x10x108x8x128.size a := fun v330 k0_hw29 => k0_hw29.1.1
theorem k0_off1460_inb : ∀ (v330 : BitVec 32) (k0_hw29 : k0_chk29 v330), ∀ a, (k0_off1460 v330) a + S1x1x1x8x128.size a ≤ S2x10x108x8x128.size a := fun v330 k0_hw29 => k0_hw29.1.2.1
theorem k0_off1463_inb : ∀ (v330 : BitVec 32) (k0_hw29 : k0_chk29 v330), ∀ a, (k0_off1463 v330) a + S1x1x1x8x128.size a ≤ S2x10x108x8x128.size a := fun v330 k0_hw29 => k0_hw29.1.2.2.1
theorem k0_off1465_inb : ∀ (v330 : BitVec 32) (k0_hw29 : k0_chk29 v330), ∀ a, (k0_off1465 v330) a + S1x1x1x8x128.size a ≤ S2x10x108x8x128.size a := fun v330 k0_hw29 => k0_hw29.1.2.2.2.1
theorem k0_off1468_inb : ∀ (v330 : BitVec 32) (k0_hw29 : k0_chk29 v330), ∀ a, (k0_off1468 v330) a + S1x1x1x8x128.size a ≤ S2x10x108x8x128.size a := fun v330 k0_hw29 => k0_hw29.1.2.2.2.2.1
theorem k0_off1470_inb : ∀ (v330 : BitVec 32) (k0_hw29 : k0_chk29 v330), ∀ a, (k0_off1470 v330) a + S1x1x1x8x128.size a ≤ S2x10x108x8x128.size a := fun v330 k0_hw29 => k0_hw29.1.2.2.2.2.2.1
theorem k0_off1473_inb : ∀ (v330 : BitVec 32) (k0_hw29 : k0_chk29 v330), ∀ a, (k0_off1473 v330) a + S1x1x1x8x128.size a ≤ S2x10x108x8x128.size a := fun v330 k0_hw29 => k0_hw29.1.2.2.2.2.2.2.1
theorem k0_off1475_inb : ∀ (v330 : BitVec 32) (k0_hw29 : k0_chk29 v330), ∀ a, (k0_off1475 v330) a + S1x1x1x8x128.size a ≤ S2x10x108x8x128.size a := fun v330 k0_hw29 => k0_hw29.1.2.2.2.2.2.2.2.1
theorem k0_off1478_inb : ∀ (v330 : BitVec 32) (k0_hw29 : k0_chk29 v330), ∀ a, (k0_off1478 v330) a + S1x1x1x8x128.size a ≤ S2x10x108x8x128.size a := fun v330 k0_hw29 => k0_hw29.1.2.2.2.2.2.2.2.2.1
theorem k0_off1480_inb : ∀ (v330 : BitVec 32) (k0_hw29 : k0_chk29 v330), ∀ a, (k0_off1480 v330) a + S1x1x1x8x128.size a ≤ S2x10x108x8x128.size a := fun v330 k0_hw29 => k0_hw29.1.2.2.2.2.2.2.2.2.2.1
theorem k0_off1483_inb : ∀ (v330 : BitVec 32) (k0_hw29 : k0_chk29 v330), ∀ a, (k0_off1483 v330) a + S1x1x1x8x128.size a ≤ S2x10x108x8x128.size a := fun v330 k0_hw29 => k0_hw29.1.2.2.2.2.2.2.2.2.2.2.1
theorem k0_off1485_inb : ∀ (v330 : BitVec 32) (k0_hw29 : k0_chk29 v330), ∀ a, (k0_off1485 v330) a + S1x1x1x8x128.size a ≤ S2x10x108x8x128.size a := fun v330 k0_hw29 => k0_hw29.1.2.2.2.2.2.2.2.2.2.2.2.1
theorem k0_off1488_inb : ∀ (v330 : BitVec 32) (k0_hw29 : k0_chk29 v330), ∀ a, (k0_off1488 v330) a + S1x1x1x8x128.size a ≤ S2x10x108x8x128.size a := fun v330 k0_hw29 => k0_hw29.1.2.2.2.2.2.2.2.2.2.2.2.2.1
theorem k0_off1490_inb : ∀ (v330 : BitVec 32) (k0_hw29 : k0_chk29 v330), ∀ a, (k0_off1490 v330) a + S1x1x1x8x128.size a ≤ S2x10x108x8x128.size a := fun v330 k0_hw29 => k0_hw29.1.2.2.2.2.2.2.2.2.2.2.2.2.2.1
theorem k0_off1493_inb : ∀ (v330 : BitVec 32) (k0_hw29 : k0_chk29 v330), ∀ a, (k0_off1493 v330) a + S1x1x1x8x128.size a ≤ S2x10x108x8x128.size a := fun v330 k0_hw29 => k0_hw29.1.2.2.2.2.2.2.2.2.2.2.2.2.2.2.1
theorem k0_off1495_inb : ∀ (v330 : BitVec 32) (k0_hw29 : k0_chk29 v330), ∀ a, (k0_off1495 v330) a + S1x1x1x8x128.size a ≤ S2x10x108x8x128.size a := fun v330 k0_hw29 => k0_hw29.1.2.2.2.2.2.2.2.2.2.2.2.2.2.2.2.1
theorem k0_off1498_inb : ∀ (v330 : BitVec 32) (k0_hw29 : k0_chk29 v330), ∀ a, (k0_off1498 v330) a + S1x1x1x8x128.size a ≤ S2x10x108x8x128.size a := fun v330 k0_hw29 => k0_hw29.1.2.2.2.2.2.2.2.2.2.2.2.2.2.2.2.2.1
theorem k0_off1500_inb : ∀ (v330 : BitVec 32) (k0_hw29 : k0_chk29 v330), ∀ a, (k0_off1500 v330) a + S1x1x1x8x128.size a ≤ S2x10x108x8x128.size a := fun v330 k0_hw29 => k0_hw29.1.2.2.2.2.2.2.2.2.2.2.2.2.2.2.2.2.2.1
theorem k0_off1503_inb : ∀ (v330 : BitVec 32) (k0_hw29 : k0_chk29 v330), ∀ a, (k0_off1503 v330) a + S1x1x1x8x128.size a ≤ S2x10x108x8x128.size a := fun v330 k0_hw29 => k0_hw29.1.2.2.2.2.2.2.2.2.2.2.2.2.2.2.2.2.2.2.1
theorem k0_off1505_inb : ∀ (v330 : BitVec 32) (k0_hw29 : k0_chk29 v330), ∀ a, (k0_off1505 v330) a + S1x1x1x8x128.size a ≤ S2x10x108x8x128.size a := fun v330 k0_hw29 => k0_hw29.1.2.2.2.2.2.2.2.2.2.2.2.2.2.2.2.2.2.2.2.1
theorem k0_off1508_inb : ∀ (v330 : BitVec 32) (k0_hw29 : k0_chk29 v330), ∀ a, (k0_off1508 v330) a + S1x1x1x8x128.size a ≤ S2x10x108x8x128.size a := fun v330 k0_hw29 => k0_hw29.1.2.2.2.2.2.2.2.2.2.2.2.2.2.2.2.2.2.2.2.2.1
theorem k0_off1510_inb : ∀ (v330 : BitVec 32) (k0_hw29 : k0_chk29 v330), ∀ a, (k0_off1510 v330) a + S1x1x1x8x128.size a ≤ S2x10x108x8x128.size a := fun v330 k0_hw29 => k0_hw29.1.2.2.2.2.2.2.2.2.2.2.2.2.2.2.2.2.2.2.2.2.2.1
theorem k0_off1513_inb : ∀ (v330 : BitVec 32) (k0_hw29 : k0_chk29 v330), ∀ a, (k0_off1513 v330) a + S1x1x1x8x128.size a ≤ S2x10x108x8x128.size a := fun v330 k0_hw29 => k0_hw29.1.2.2.2.2.2.2.2.2.2.2.2.2.2.2.2.2.2.2.2.2.2.2.1
theorem k0_off1515_inb : ∀ (v330 : BitVec 32) (k0_hw29 : k0_chk29 v330), ∀ a, (k0_off1515 v330) a + S1x1x1x8x128.size a ≤ S2x10x108x8x128.size a := fun v330 k0_hw29 => k0_hw29.1.2.2.2.2.2.2.2.2.2.2.2.2.2.2.2.2.2.2.2.2.2.2.2.1
theorem k0_off1518_inb : ∀ (v330 : BitVec 32) (k0_hw29 : k0_chk29 v330), ∀ a, (k0_off1518 v330) a + S1x1x1x8x128.size a ≤ S2x10x108x8x128.size a := fun v330 k0_hw29 => k0_hw29.1.2.2.2.2.2.2.2.2.2.2.2.2.2.2.2.2.2.2.2.2.2.2.2.2.1
theorem k0_off1520_inb : ∀ (v330 : BitVec 32) (k0_hw29 : k0_chk29 v330), ∀ a, (k0_off1520 v330) a + S1x1x1x8x128.size a ≤ S2x10x108x8x128.size a := fun v330 k0_hw29 => k0_hw29.1.2.2.2.2.2.2.2.2.2.2.2.2.2.2.2.2.2.2.2.2.2.2.2.2.2.1
theorem k0_off1523_inb : ∀ (v330 : BitVec 32) (k0_hw29 : k0_chk29 v330), ∀ a, (k0_off1523 v330) a + S1x1x1x8x128.size a ≤ S2x10x108x8x128.size a := fun v330 k0_hw29 => k0_hw29.1.2.2.2.2.2.2.2.2.2.2.2.2.2.2.2.2.2.2.2.2.2.2.2.2.2.2.1
theorem k0_off1525_inb : ∀ (v330 : BitVec 32) (k0_hw29 : k0_chk29 v330), ∀ a, (k0_off1525 v330) a + S1x1x1x8x128.size a ≤ S2x10x108x8x128.size a := fun v330 k0_hw29 => k0_hw29.1.2.2.2.2.2.2.2.2.2.2.2.2.2.2.2.2.2.2.2.2.2.2.2.2.2.2.2.1
theorem k0_off1528_inb : ∀ (v330 : BitVec 32) (k0_hw29 : k0_chk29 v330), ∀ a, (k0_off1528 v330) a + S1x1x1x8x128.size a ≤ S2x10x108x8x128.size a := fun v330 k0_hw29 => k0_hw29.1.2.2.2.2.2.2.2.2.2.2.2.2.2.2.2.2.2.2.2.2.2.2.2.2.2.2.2.2.1
theorem k0_off1530_inb : ∀ (v330 : BitVec 32) (k0_hw29 : k0_chk29 v330), ∀ a, (k0_off1530 v330) a + S1x1x1x8x128.size a ≤ S2x10x108x8x128.size a := fun v330 k0_hw29 => k0_hw29.1.2.2.2.2.2.2.2.2.2.2.2.2.2.2.2.2.2.2.2.2.2.2.2.2.2.2.2.2.2.1
theorem k0_off1533_inb : ∀ (v330 : BitVec 32) (k0_hw29 : k0_chk29 v330), ∀ a, (k0_off1533 v330) a + S1x1x1x8x128.size a ≤ S2x10x108x8x128.size a := fun v330 k0_hw29 => k0_hw29.1.2.2.2.2.2.2.2.2.2.2.2.2.2.2.2.2.2.2.2.2.2.2.2.2.2.2.2.2.2.2.1
theorem k0_off1535_inb : ∀ (v330 : BitVec 32) (k0_hw29 : k0_chk29 v330), ∀ a, (k0_off1535 v330) a + S1x1x1x8x128.size a ≤ S2x10x108x8x128.size a := fun v330 k0_hw29 => k0_hw29.1.2.2.2.2.2.2.2.2.2.2.2.2.2.2.2.2.2.2.2.2.2.2.2.2.2.2.2.2.2.2.2
theorem k0_off1538_inb : ∀ (v330 : BitVec 32) (k0_hw29 : k0_chk29 v330), ∀ a, (k0_off1538 v330) a + S1x1x1x8x128.size a ≤ S2x10x108x8x128.size a := fun v330 k0_hw29 => k0_hw29.2.1.1
theorem k0_off1540_inb : ∀ (v330 : BitVec 32) (k0_hw29 : k0_chk29 v330), ∀ a, (k0_off1540 v330) a + S1x1x1x8x128.size a ≤ S2x10x108x8x128.size a := fun v330 k0_hw29 => k0_hw29.2.1.2.1
theorem k0_off1543_inb : ∀ (v330 : BitVec 32) (k0_hw29 : k0_chk29 v330), ∀ a, (k0_off1543 v330) a + S1x1x1x8x128.size a ≤ S2x10x108x8x128.size a := fun v330 k0_hw29 => k0_hw29.2.1.2.2.1
theorem k0_off1545_inb : ∀ (v330 : BitVec 32) (k0_hw29 : k0_chk29 v330), ∀ a, (k0_off1545 v330) a + S1x1x1x8x128.size a ≤ S2x10x108x8x128.size a := fun v330 k0_hw29 => k0_hw29.2.1.2.2.2.1
theorem k0_off1548_inb : ∀ (v330 : BitVec 32) (k0_hw29 : k0_chk29 v330), ∀ a, (k0_off1548 v330) a + S1x1x1x8x128.size a ≤ S2x10x108x8x128.size a := fun v330 k0_hw29 => k0_hw29.2.1.2.2.2.2.1
theorem k0_off1550_inb : ∀ (v330 : BitVec 32) (k0_hw29 : k0_chk29 v330), ∀ a, (k0_off1550 v330) a + S1x1x1x8x128.size a ≤ S2x10x108x8x128.size a := fun v330 k0_hw29 => k0_hw29.2.1.2.2.2.2.2.1
theorem k0_off1553_inb : ∀ (v330 : BitVec 32) (k0_hw29 : k0_chk29 v330), ∀ a, (k0_off1553 v330) a + S1x1x1x8x128.size a ≤ S2x10x108x8x128.size a := fun v330 k0_hw29 => k0_hw29.2.1.2.2.2.2.2.2.1
theorem k0_off1555_inb : ∀ (v330 : BitVec 32) (k0_hw29 : k0_chk29 v330), ∀ a, (k0_off1555 v330) a + S1x1x1x8x128.size a ≤ S2x10x108x8x128.size a := fun v330 k0_hw29 => k0_hw29.2.1.2.2.2.2.2.2.2.1
theorem k0_off1558_inb : ∀ (v330 : BitVec 32) (k0_hw29 : k0_chk29 v330), ∀ a, (k0_off1558 v330) a + S1x1x1x8x128.size a ≤ S2x10x108x8x128.size a := fun v330 k0_hw29 => k0_hw29.2.1.2.2.2.2.2.2.2.2.1
theorem k0_off1560_inb : ∀ (v330 : BitVec 32) (k0_hw29 : k0_chk29 v330), ∀ a, (k0_off1560 v330) a + S1x1x1x8x128.size a ≤ S2x10x108x8x128.size a := fun v330 k0_hw29 => k0_hw29.2.1.2.2.2.2.2.2.2.2.2.1
theorem k0_off1563_inb : ∀ (v330 : BitVec 32) (k0_hw29 : k0_chk29 v330), ∀ a, (k0_off1563 v330) a + S1x1x1x8x128.size a ≤ S2x10x108x8x128.size a := fun v330 k0_hw29 => k0_hw29.2.1.2.2.2.2.2.2.2.2.2.2.1
theorem k0_off1565_inb : ∀ (v330 : BitVec 32) (k0_hw29 : k0_chk29 v330), ∀ a, (k0_off1565 v330) a + S1x1x1x8x128.size a ≤ S2x10x108x8x128.size a := fun v330 k0_hw29 => k0_hw29.2.1.2.2.2.2.2.2.2.2.2.2.2.1
theorem k0_off1568_inb : ∀ (v330 : BitVec 32) (k0_hw29 : k0_chk29 v330), ∀ a, (k0_off1568 v330) a + S1x1x1x8x128.size a ≤ S2x10x108x8x128.size a := fun v330 k0_hw29 => k0_hw29.2.1.2.2.2.2.2.2.2.2.2.2.2.2.1
theorem k0_off1570_inb : ∀ (v330 : BitVec 32) (k0_hw29 : k0_chk29 v330), ∀ a, (k0_off1570 v330) a + S1x1x1x8x128.size a ≤ S2x10x108x8x128.size a := fun v330 k0_hw29 => k0_hw29.2.1.2.2.2.2.2.2.2.2.2.2.2.2.2.1
theorem k0_off1573_inb : ∀ (v330 : BitVec 32) (k0_hw29 : k0_chk29 v330), ∀ a, (k0_off1573 v330) a + S1x1x1x8x128.size a ≤ S2x10x108x8x128.size a := fun v330 k0_hw29 => k0_hw29.2.1.2.2.2.2.2.2.2.2.2.2.2.2.2.2.1
theorem k0_off1575_inb : ∀ (v330 : BitVec 32) (k0_hw29 : k0_chk29 v330), ∀ a, (k0_off1575 v330) a + S1x1x1x8x128.size a ≤ S2x10x108x8x128.size a := fun v330 k0_hw29 => k0_hw29.2.1.2.2.2.2.2.2.2.2.2.2.2.2.2.2.2.1
theorem k0_off1578_inb : ∀ (v330 : BitVec 32) (k0_hw29 : k0_chk29 v330), ∀ a, (k0_off1578 v330) a + S1x1x1x8x128.size a ≤ S2x10x108x8x128.size a := fun v330 k0_hw29 => k0_hw29.2.1.2.2.2.2.2.2.2.2.2.2.2.2.2.2.2.2.1
theorem k0_off1580_inb : ∀ (v330 : BitVec 32) (k0_hw29 : k0_chk29 v330), ∀ a, (k0_off1580 v330) a + S1x1x1x8x128.size a ≤ S2x10x108x8x128.size a := fun v330 k0_hw29 => k0_hw29.2.1.2.2.2.2.2.2.2.2.2.2.2.2.2.2.2.2.2.1
theorem k0_off1583_inb : ∀ (v330 : BitVec 32) (k0_hw29 : k0_chk29 v330), ∀ a, (k0_off1583 v330) a + S1x1x1x8x128.size a ≤ S2x10x108x8x128.size a := fun v330 k0_hw29 => k0_hw29.2.1.2.2.2.2.2.2.2.2.2.2.2.2.2.2.2.2.2.2.1
theorem k0_off1585_inb : ∀ (v330 : BitVec 32) (k0_hw29 : k0_chk29 v330), ∀ a, (k0_off1585 v330) a + S1x1x1x8x128.size a ≤ S2x10x108x8x128.size a := fun v330 k0_hw29 => k0_hw29.2.1.2.2.2.2.2.2.2.2.2.2.2.2.2.2.2.2.2.2.2.1
theorem k0_off1588_inb : ∀ (v330 : BitVec 32) (k0_hw29 : k0_chk29 v330), ∀ a, (k0_off1588 v330) a + S1x1x1x8x128.size a ≤ S2x10x108x8x128.size a := fun v330 k0_hw29 => k0_hw29.2.1.2.2.2.2.2.2.2.2.2.2.2.2.2.2.2.2.2.2.2.2.1
theorem k0_off1590_inb : ∀ (v330 : BitVec 32) (k0_hw29 : k0_chk29 v330), ∀ a, (k0_off1590 v330) a + S1x1x1x8x128.size a ≤ S2x10x108x8x128.size a := fun v330 k0_hw29 => k0_hw29.2.1.2.2.2.2.2.2.2.2.2.2.2.2.2.2.2.2.2.2.2.2.2.1
theorem k0_off1593_inb : ∀ (v330 : BitVec 32) (k0_hw29 : k0_chk29 v330), ∀ a, (k0_off1593 v330) a + S1x1x1x8x128.size a ≤ S2x10x108x8x128.size a := fun v330 k0_hw29 => k0_hw29.2.1.2.2.2.2.2.2.2.2.2.2.2.2.2.2.2.2.2.2.2.2.2.2.1
theorem k0_off1595_inb : ∀ (v330 : BitVec 32) (k0_hw29 : k0_chk29 v330), ∀ a, (k0_off1595 v330) a + S1x1x1x8x128.size a ≤ S2x10x108x8x128.size a := fun v330 k0_hw29 => k0_hw29.2.1.2.2.2.2.2.2.2.2.2.2.2.2.2.2.2.2.2.2.2.2.2.2.2.1
theorem k0_off1598_inb : ∀ (v330 : BitVec 32) (k0_hw29 : k0_chk29 v330), ∀ a, (k0_off1598 v330) a + S1x1x1x8x128.size a ≤ S2x10x108x8x128.size a := fun v330 k0_hw29 => k0_hw29.2.1.2.2.2.2.2.2.2.2.2.2.2.2.2.2.2.2.2.2.2.2.2.2.2.2.1
theorem k0_off1600_inb : ∀ (v330 : BitVec 32) (k0_hw29 : k0_chk29 v330), ∀ a, (k0_off1600 v330) a + S1x1x1x8x128.size a ≤ S2x10x108x8x128.size a := fun v330 k0_hw29 => k0_hw29.2.1.2.2.2.2.2.2.2.2.2.2.2.2.2.2.2.2.2.2.2.2.2.2.2.2.2.1
theorem k0_off1603_inb : ∀ (v330 : BitVec 32) (k0_hw29 : k0_chk29 v330), ∀ a, (k0_off1603 v330) a + S1x1x1x8x128.size a ≤ S2x10x108x8x128.size a := fun v330 k0_hw29 => k0_hw29.2.1.2.2.2.2.2.2.2.2.2.2.2.2.2.2.2.2.2.2.2.2.2.2.2.2.2.2.1
theorem k0_off1605_inb : ∀ (v330 : BitVec 32) (k0_hw29 : k0_chk29 v330), ∀ a, (k0_off1605 v330) a + S1x1x1x8x128.size a ≤ S2x10x108x8x128.size a := fun v330 k0_hw29 => k0_hw29.2.1.2.2.2.2.2.2.2.2.2.2.2.2.2.2.2.2.2.2.2.2.2.2.2.2.2.2.2.1
theorem k0_off1608_inb : ∀ (v330 : BitVec 32) (k0_hw29 : k0_chk29 v330), ∀ a, (k0_off1608 v330) a + S1x1x1x8x128.size a ≤ S2x10x108x8x128.size a := fun v330 k0_hw29 => k0_hw29.2.1.2.2.2.2.2.2.2.2.2.2.2.2.2.2.2.2.2.2.2.2.2.2.2.2.2.2.2.2.1
theorem k0_off1610_inb : ∀ (v330 : BitVec 32) (k0_hw29 : k0_chk29 v330), ∀ a, (k0_off1610 v330) a + S1x1x1x8x128.size a ≤ S2x10x108x8x128.size a := fun v330 k0_hw29 => k0_hw29.2.1.2.2.2.2.2.2.2.2.2.2.2.2.2.2.2.2.2.2.2.2.2.2.2.2.2.2.2.2.2.1
theorem k0_off1613_inb : ∀ (v330 : BitVec 32) (k0_hw29 : k0_chk29 v330), ∀ a, (k0_off1613 v330) a + S1x1x1x8x128.size a ≤ S2x10x108x8x128.size a := fun v330 k0_hw29 => k0_hw29.2.1.2.2.2.2.2.2.2.2.2.2.2.2.2.2.2.2.2.2.2.2.2.2.2.2.2.2.2.2.2.2.1
theorem k0_off1615_inb : ∀ (v330 : BitVec 32) (k0_hw29 : k0_chk29 v330), ∀ a, (k0_off1615 v330) a + S1x1x1x8x128.size a ≤ S2x10x108x8x128.size a := fun v330 k0_hw29 => k0_hw29.2.1.2.2.2.2.2.2.2.2.2.2.2.2.2.2.2.2.2.2.2.2.2.2.2.2.2.2.2.2.2.2.2
theorem k0_off1618_inb : ∀ (v330 : BitVec 32) (k0_hw29 : k0_chk29 v330), ∀ a, (k0_off1618 v330) a + S1x1x1x8x128.size a ≤ S2x10x108x8x128.size a := fun v330 k0_hw29 => k0_hw29.2.2.1.1
theorem k0_off1620_inb : ∀ (v330 : BitVec 32) (k0_hw29 : k0_chk29 v330), ∀ a, (k0_off1620 v330) a + S1x1x1x8x128.size a ≤ S2x10x108x8x128.size a := fun v330 k0_hw29 => k0_hw29.2.2.1.2.1
theorem k0_off1623_inb : ∀ (v330 : BitVec 32) (k0_hw29 : k0_chk29 v330), ∀ a, (k0_off1623 v330) a + S1x1x1x8x128.size a ≤ S2x10x108x8x128.size a := fun v330 k0_hw29 => k0_hw29.2.2.1.2.2.1
theorem k0_off1625_inb : ∀ (v330 : BitVec 32) (k0_hw29 : k0_chk29 v330), ∀ a, (k0_off1625 v330) a + S1x1x1x8x128.size a ≤ S2x10x108x8x128.size a := fun v330 k0_hw29 => k0_hw29.2.2.1.2.2.2.1
theorem k0_off1628_inb : ∀ (v330 : BitVec 32) (k0_hw29 : k0_chk29 v330), ∀ a, (k0_off1628 v330) a + S1x1x1x8x128.size a ≤ S2x10x108x8x128.size a := fun v330 k0_hw29 => k0_hw29.2.2.1.2.2.2.2.1
theorem k0_off1630_inb : ∀ (v330 : BitVec 32) (k0_hw29 : k0_chk29 v330), ∀ a, (k0_off1630 v330) a + S1x1x1x8x128.size a ≤ S2x10x108x8x128.size a := fun v330 k0_hw29 => k0_hw29.2.2.1.2.2.2.2.2.1
theorem k0_off1633_inb : ∀ (v330 : BitVec 32) (k0_hw29 : k0_chk29 v330), ∀ a, (k0_off1633 v330) a + S1x1x1x8x128.size a ≤ S2x10x108x8x128.size a := fun v330 k0_hw29 => k0_hw29.2.2.1.2.2.2.2.2.2.1
theorem k0_off1635_inb : ∀ (v330 : BitVec 32) (k0_hw29 : k0_chk29 v330), ∀ a, (k0_off1635 v330) a + S1x1x1x8x128.size a ≤ S2x10x108x8x128.size a := fun v330 k0_hw29 => k0_hw29.2.2.1.2.2.2.2.2.2.2.1
theorem k0_off1638_inb : ∀ (v330 : BitVec 32) (k0_hw29 : k0_chk29 v330), ∀ a, (k0_off1638 v330) a + S1x1x1x8x128.size a ≤ S2x10x108x8x128.size a := fun v330 k0_hw29 => k0_hw29.2.2.1.2.2.2.2.2.2.2.2.1
theorem k0_off1640_inb : ∀ (v330 : BitVec 32) (k0_hw29 : k0_chk29 v330), ∀ a, (k0_off1640 v330) a + S1x1x1x8x128.size a ≤ S2x10x108x8x128.size a := fun v330 k0_hw29 => k0_hw29.2.2.1.2.2.2.2.2.2.2.2.2.1
theorem k0_off1643_inb : ∀ (v330 : BitVec 32) (k0_hw29 : k0_chk29 v330), ∀ a, (k0_off1643 v330) a + S1x1x1x8x128.size a ≤ S2x10x108x8x128.size a := fun v330 k0_hw29 => k0_hw29.2.2.1.2.2.2.2.2.2.2.2.2.2.1
theorem k0_off1645_inb : ∀ (v330 : BitVec 32) (k0_hw29 : k0_chk29 v330), ∀ a, (k0_off1645 v330) a + S1x1x1x8x128.size a ≤ S2x10x108x8x128.size a := fun v330 k0_hw29 => k0_hw29.2.2.1.2.2.2.2.2.2.2.2.2.2.2.1
theorem k0_off1648_inb : ∀ (v330 : BitVec 32) (k0_hw29 : k0_chk29 v330), ∀ a, (k0_off1648 v330) a + S1x1x1x8x128.size a ≤ S2x10x108x8x128.size a := fun v330 k0_hw29 => k0_hw29.2.2.1.2.2.2.2.2.2.2.2.2.2.2.2.1
theorem k0_off1650_inb : ∀ (v330 : BitVec 32) (k0_hw29 : k0_chk29 v330), ∀ a, (k0_off1650 v330) a + S1x1x1x8x128.size a ≤ S2x10x108x8x128.size a := fun v330 k0_hw29 => k0_hw29.2.2.1.2.2.2.2.2.2.2.2.2.2.2.2.2.1
theorem k0_off1653_inb : ∀ (v330 : BitVec 32) (k0_hw29 : k0_chk29 v330), ∀ a, (k0_off1653 v330) a + S1x1x1x8x128.size a ≤ S2x10x108x8x128.size a := fun v330 k0_hw29 => k0_hw29.2.2.1.2.2.2.2.2.2.2.2.2.2.2.2.2.2.1
theorem k0_off1655_inb : ∀ (v330 : BitVec 32) (k0_hw29 : k0_chk29 v330), ∀ a, (k0_off1655 v330) a + S1x1x1x8x128.size a ≤ S2x10x108x8x128.size a := fun v330 k0_hw29 => k0_hw29.2.2.1.2.2.2.2.2.2.2.2.2.2.2.2.2.2.2.1
theorem k0_off1658_inb : ∀ (v330 : BitVec 32) (k0_hw29 : k0_chk29 v330), ∀ a, (k0_off1658 v330) a + S1x1x1x8x128.size a ≤ S2x10x108x8x128.size a := fun v330 k0_hw29 => k0_hw29.2.2.1.2.2.2.2.2.2.2.2.2.2.2.2.2.2.2.2.1
theorem k0_off1660_inb : ∀ (v330 : BitVec 32) (k0_hw29 : k0_chk29 v330), ∀ a, (k0_off1660 v330) a + S1x1x1x8x128.size a ≤ S2x10x108x8x128.size a := fun v330 k0_hw29 => k0_hw29.2.2.1.2.2.2.2.2.2.2.2.2.2.2.2.2.2.2.2.2.1
theorem k0_off1663_inb : ∀ (v330 : BitVec 32) (k0_hw29 : k0_chk29 v330), ∀ a, (k0_off1663 v330) a + S1x1x1x8x128.size a ≤ S2x10x108x8x128.size a := fun v330 k0_hw29 => k0_hw29.2.2.1.2.2.2.2.2.2.2.2.2.2.2.2.2.2.2.2.2.2.1
theorem k0_off1665_inb : ∀ (v330 : BitVec 32) (k0_hw29 : k0_chk29 v330), ∀ a, (k0_off1665 v330) a + S1x1x1x8x128.size a ≤ S2x10x108x8x128.size a := fun v330 k0_hw29 => k0_hw29.2.2.1.2.2.2.2.2.2.2.2.2.2.2.2.2.2.2.2.2.2.2.1
theorem k0_off1668_inb : ∀ (v330 : BitVec 32) (k0_hw29 : k0_chk29 v330), ∀ a, (k0_off1668 v330) a + S1x1x1x8x128.size a ≤ S2x10x108x8x128.size a := fun v330 k0_hw29 => k0_hw29.2.2.1.2.2.2.2.2.2.2.2.2.2.2.2.2.2.2.2.2.2.2.2.1
theorem k0_off1670_inb : ∀ (v330 : BitVec 32) (k0_hw29 : k0_chk29 v330), ∀ a, (k0_off1670 v330) a + S1x1x1x8x128.size a ≤ S2x10x108x8x128.size a := fun v330 k0_hw29 => k0_hw29.2.2.1.2.2.2.2.2.2.2.2.2.2.2.2.2.2.2.2.2.2.2.2.2.1
theorem k0_off1673_inb : ∀ (v330 : BitVec 32) (k0_hw29 : k0_chk29 v330), ∀ a, (k0_off1673 v330) a + S1x1x1x8x128.size a ≤ S2x10x108x8x128.size a := fun v330 k0_hw29 => k0_hw29.2.2.1.2.2.2.2.2.2.2.2.2.2.2.2.2.2.2.2.2.2.2.2.2.2.1
theorem k0_off1675_inb : ∀ (v330 : BitVec 32) (k0_hw29 : k0_chk29 v330), ∀ a, (k0_off1675 v330) a + S1x1x1x8x128.size a ≤ S2x10x108x8x128.size a := fun v330 k0_hw29 => k0_hw29.2.2.1.2.2.2.2.2.2.2.2.2.2.2.2.2.2.2.2.2.2.2.2.2.2.2.1
theorem k0_off1678_inb : ∀ (v330 : BitVec 32) (k0_hw29 : k0_chk29 v330), ∀ a, (k0_off1678 v330) a + S1x1x1x8x128.size a ≤ S2x10x108x8x128.size a := fun v330 k0_hw29 => k0_hw29.2.2.1.2.2.2.2.2.2.2.2.2.2.2.2.2.2.2.2.2.2.2.2.2.2.2.2.1
theorem k0_off1680_inb : ∀ (v330 : BitVec 32) (k0_hw29 : k0_chk29 v330), ∀ a, (k0_off1680 v330) a + S1x1x1x8x128.size a ≤ S2x10x108x8x128.size a := fun v330 k0_hw29 => k0_hw29.2.2.1.2.2.2.2.2.2.2.2.2.2.2.2.2.2.2.2.2.2.2.2.2.2.2.2.2.1
theorem k0_off1683_inb : ∀ (v330 : BitVec 32) (k0_hw29 : k0_chk29 v330), ∀ a, (k0_off1683 v330) a + S1x1x1x8x128.size a ≤ S2x10x108x8x128.size a := fun v330 k0_hw29 => k0_hw29.2.2.1.2.2.2.2.2.2.2.2.2.2.2.2.2.2.2.2.2.2.2.2.2.2.2.2.2.2.1
theorem k0_off1685_inb : ∀ (v330 : BitVec 32) (k0_hw29 : k0_chk29 v330), ∀ a, (k0_off1685 v330) a + S1x1x1x8x128.size a ≤ S2x10x108x8x128.size a := fun v330 k0_hw29 => k0_hw29.2.2.1.2.2.2.2.2.2.2.2.2.2.2.2.2.2.2.2.2.2.2.2.2.2.2.2.2.2.2.1
theorem k0_off1688_inb : ∀ (v330 : BitVec 32) (k0_hw29 : k0_chk29 v330), ∀ a, (k0_off1688 v330) a + S1x1x1x8x128.size a ≤ S2x10x108x8x128.size a := fun v330 k0_hw29 => k0_hw29.2.2.1.2.2.2.2.2.2.2.2.2.2.2.2.2.2.2.2.2.2.2.2.2.2.2.2.2.2.2.2.1
theorem k0_off1690_inb : ∀ (v330 : BitVec 32) (k0_hw29 : k0_chk29 v330), ∀ a, (k0_off1690 v330) a + S1x1x1x8x128.size a ≤ S2x10x108x8x128.size a := fun v330 k0_hw29 => k0_hw29.2.2.1.2.2.2.2.2.2.2.2.2.2.2.2.2.2.2.2.2.2.2.2.2.2.2.2.2.2.2.2.2.1
theorem k0_off1693_inb : ∀ (v330 : BitVec 32) (k0_hw29 : k0_chk29 v330), ∀ a, (k0_off1693 v330) a + S1x1x1x8x128.size a ≤ S2x10x108x8x128.size a := fun v330 k0_hw29 => k0_hw29.2.2.1.2.2.2.2.2.2.2.2.2.2.2.2.2.2.2.2.2.2.2.2.2.2.2.2.2.2.2.2.2.2.1
theorem k0_off1695_inb : ∀ (v330 : BitVec 32) (k0_hw29 : k0_chk29 v330), ∀ a, (k0_off1695 v330) a + S1x1x1x8x128.size a ≤ S2x10x108x8x128.size a := fun v330 k0_hw29 => k0_hw29.2.2.1.2.2.2.2.2.2.2.2.2.2.2.2.2.2.2.2.2.2.2.2.2.2.2.2.2.2.2.2.2.2.2
theorem k0_off1698_inb : ∀ (v330 : BitVec 32) (k0_hw29 : k0_chk29 v330), ∀ a, (k0_off1698 v330) a + S1x1x1x8x128.size a ≤ S2x10x108x8x128.size a := fun v330 k0_hw29 => k0_hw29.2.2.2.1
theorem k0_off1700_inb : ∀ (v330 : BitVec 32) (k0_hw29 : k0_chk29 v330), ∀ a, (k0_off1700 v330) a + S1x1x1x8x128.size a ≤ S2x10x108x8x128.size a := fun v330 k0_hw29 => k0_hw29.2.2.2.2.1
theorem k0_off1703_inb : ∀ (v330 : BitVec 32) (k0_hw29 : k0_chk29 v330), ∀ a, (k0_off1703 v330) a + S1x1x1x8x128.size a ≤ S2x10x108x8x128.size a := fun v330 k0_hw29 => k0_hw29.2.2.2.2.2.1
theorem k0_off1705_inb : ∀ (v330 : BitVec 32) (k0_hw29 : k0_chk29 v330), ∀ a, (k0_off1705 v330) a + S1x1x1x8x128.size a ≤ S2x10x108x8x128.size a := fun v330 k0_hw29 => k0_hw29.2.2.2.2.2.2.1
theorem k0_off1708_inb : ∀ (v330 : BitVec 32) (k0_hw29 : k0_chk29 v330), ∀ a, (k0_off1708 v330) a + S1x1x1x8x128.size a ≤ S2x10x108x8x128.size a := fun v330 k0_hw29 => k0_hw29.2.2.2.2.2.2.2.1
theorem k0_off1710_inb : ∀ (v330 : BitVec 32) (k0_hw29 : k0_chk29 v330), ∀ a, (k0_off1710 v330) a + S1x1x1x8x128.size a ≤ S2x10x108x8x128.size a := fun v330 k0_hw29 => k0_hw29.2.2.2.2.2.2.2.2.1
theorem k0_off1713_inb : ∀ (v330 : BitVec 32) (k0_hw29 : k0_chk29 v330), ∀ a, (k0_off1713 v330) a + S1x1x1x8x128.size a ≤ S2x10x108x8x128.size a := fun v330 k0_hw29 => k0_hw29.2.2.2.2.2.2.2.2.2.1
theorem k0_off1715_inb : ∀ (v330 : BitVec 32) (k0_hw29 : k0_chk29 v330), ∀ a, (k0_off1715 v330) a + S1x1x1x8x128.size a ≤ S2x10x108x8x128.size a := fun v330 k0_hw29 => k0_hw29.2.2.2.2.2.2.2.2.2.2.1
theorem k0_off1718_inb : ∀ (v330 : BitVec 32) (k0_hw29 : k0_chk29 v330), ∀ a, (k0_off1718 v330) a + S1x1x1x8x128.size a ≤ S2x10x108x8x128.size a := fun v330 k0_hw29 => k0_hw29.2.2.2.2.2.2.2.2.2.2.2.1
theorem k0_off1720_inb : ∀ (v330 : BitVec 32) (k0_hw29 : k0_chk29 v330), ∀ a, (k0_off1720 v330) a + S1x1x1x8x128.size a ≤ S2x10x108x8x128.size a := fun v330 k0_hw29 => k0_hw29.2.2.2.2.2.2.2.2.2.2.2.2.1
theorem k0_off1723_inb : ∀ (v330 : BitVec 32) (k0_hw29 : k0_chk29 v330), ∀ a, (k0_off1723 v330) a + S1x1x1x8x128.size a ≤ S2x10x108x8x128.size a := fun v330 k0_hw29 => k0_hw29.2.2.2.2.2.2.2.2.2.2.2.2.2.1
theorem k0_off1725_inb : ∀ (v330 : BitVec 32) (k0_hw29 : k0_chk29 v330), ∀ a, (k0_off1725 v330) a + S1x1x1x8x128.size a ≤ S2x10x108x8x128.size a := fun v330 k0_hw29 => k0_hw29.2.2.2.2.2.2.2.2.2.2.2.2.2.2

def k0_off1726 (v1 : BitVec 32) (k0_t34 : Fin (k0_t34_loop v1).trips) (v228 : BitVec 32) (v257 : BitVec 32) (k0_t46 : Fin (k0_t46_loop v228 v257).trips) : Fin 5 → Nat :=
  let c1_1447 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v3024 : Index := Scalar.indexCast v226
  let c107_1448 : Index := 107#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t46
  let c16_i32_473 : BitVec 32 := 16#32
  let v381 : BitVec 32 := Scalar.muli arg19 c16_i32_473
  let v382 : BitVec 32 := v381
  let v3025 : Index := Scalar.indexCast v382
  let c0_1449 : Index := 0#32
  ![1, v3024.toNat, 107, v3025.toNat, 0]
@[reducible] def k0_t47_loop (v228 : BitVec 32) (v257 : BitVec 32) : Scf.Loop 32 :=
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_440 : BitVec 32 := 1#32
  ⟨v265, v313, c1_i32_440⟩
def k0_mult14 (v228 : BitVec 32) (v257 : BitVec 32) (k0_t47 : Fin (k0_t47_loop v228 v257).trips) : BitVec 32 :=
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  v326
def k0_off1727 (v1 : BitVec 32) (k0_t34 : Fin (k0_t34_loop v1).trips) (v228 : BitVec 32) (v257 : BitVec 32) (k0_t47 : Fin (k0_t47_loop v228 v257).trips) : Fin 5 → Nat :=
  let c1 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v329 : Index := Scalar.indexCast v226
  let c0 : Index := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v330 : Index := Scalar.indexCast v327
  let c0_453 : Index := 0#32
  ![1, v329.toNat, 0, v330.toNat, 0]
def k0_off1728 (v1 : BitVec 32) (k0_t34 : Fin (k0_t34_loop v1).trips) (v228 : BitVec 32) (v257 : BitVec 32) (k0_t47 : Fin (k0_t47_loop v228 v257).trips) : Fin 5 → Nat :=
  let c1_455 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v335 : Index := Scalar.indexCast v226
  let c1_456 : Index := 1#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v336 : Index := Scalar.indexCast v327
  let c0_457 : Index := 0#32
  ![1, v335.toNat, 1, v336.toNat, 0]
def k0_off1729 (v1 : BitVec 32) (k0_t34 : Fin (k0_t34_loop v1).trips) (v228 : BitVec 32) (v257 : BitVec 32) (k0_t47 : Fin (k0_t47_loop v228 v257).trips) : Fin 5 → Nat :=
  let c1_459 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v341 : Index := Scalar.indexCast v226
  let c2 : Index := 2#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v342 : Index := Scalar.indexCast v327
  let c0_460 : Index := 0#32
  ![1, v341.toNat, 2, v342.toNat, 0]
def k0_off1730 (v1 : BitVec 32) (k0_t34 : Fin (k0_t34_loop v1).trips) (v228 : BitVec 32) (v257 : BitVec 32) (k0_t47 : Fin (k0_t47_loop v228 v257).trips) : Fin 5 → Nat :=
  let c1_462 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v347 : Index := Scalar.indexCast v226
  let c3 : Index := 3#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v348 : Index := Scalar.indexCast v327
  let c0_463 : Index := 0#32
  ![1, v347.toNat, 3, v348.toNat, 0]
def k0_off1731 (v1 : BitVec 32) (k0_t34 : Fin (k0_t34_loop v1).trips) (v228 : BitVec 32) (v257 : BitVec 32) (k0_t47 : Fin (k0_t47_loop v228 v257).trips) : Fin 5 → Nat :=
  let c1_465 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v353 : Index := Scalar.indexCast v226
  let c4 : Index := 4#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v354 : Index := Scalar.indexCast v327
  let c0_466 : Index := 0#32
  ![1, v353.toNat, 4, v354.toNat, 0]
def k0_off1732 (v1 : BitVec 32) (k0_t34 : Fin (k0_t34_loop v1).trips) (v228 : BitVec 32) (v257 : BitVec 32) (k0_t47 : Fin (k0_t47_loop v228 v257).trips) : Fin 5 → Nat :=
  let c1_468 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v359 : Index := Scalar.indexCast v226
  let c5 : Index := 5#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v360 : Index := Scalar.indexCast v327
  let c0_469 : Index := 0#32
  ![1, v359.toNat, 5, v360.toNat, 0]
def k0_off1733 (v1 : BitVec 32) (k0_t34 : Fin (k0_t34_loop v1).trips) (v228 : BitVec 32) (v257 : BitVec 32) (k0_t47 : Fin (k0_t47_loop v228 v257).trips) : Fin 5 → Nat :=
  let c1_471 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v365 : Index := Scalar.indexCast v226
  let c6 : Index := 6#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v366 : Index := Scalar.indexCast v327
  let c0_472 : Index := 0#32
  ![1, v365.toNat, 6, v366.toNat, 0]
def k0_off1734 (v1 : BitVec 32) (k0_t34 : Fin (k0_t34_loop v1).trips) (v228 : BitVec 32) (v257 : BitVec 32) (k0_t47 : Fin (k0_t47_loop v228 v257).trips) : Fin 5 → Nat :=
  let c1_474 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v371 : Index := Scalar.indexCast v226
  let c7 : Index := 7#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v372 : Index := Scalar.indexCast v327
  let c0_475 : Index := 0#32
  ![1, v371.toNat, 7, v372.toNat, 0]
def k0_off1735 (v1 : BitVec 32) (k0_t34 : Fin (k0_t34_loop v1).trips) (v228 : BitVec 32) (v257 : BitVec 32) (k0_t47 : Fin (k0_t47_loop v228 v257).trips) : Fin 5 → Nat :=
  let c1_477 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v377 : Index := Scalar.indexCast v226
  let c8 : Index := 8#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v378 : Index := Scalar.indexCast v327
  let c0_478 : Index := 0#32
  ![1, v377.toNat, 8, v378.toNat, 0]
def k0_off1736 (v1 : BitVec 32) (k0_t34 : Fin (k0_t34_loop v1).trips) (v228 : BitVec 32) (v257 : BitVec 32) (k0_t47 : Fin (k0_t47_loop v228 v257).trips) : Fin 5 → Nat :=
  let c1_480 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v383 : Index := Scalar.indexCast v226
  let c9 : Index := 9#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v384 : Index := Scalar.indexCast v327
  let c0_481 : Index := 0#32
  ![1, v383.toNat, 9, v384.toNat, 0]
def k0_off1737 (v1 : BitVec 32) (k0_t34 : Fin (k0_t34_loop v1).trips) (v228 : BitVec 32) (v257 : BitVec 32) (k0_t47 : Fin (k0_t47_loop v228 v257).trips) : Fin 5 → Nat :=
  let c1_483 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v389 : Index := Scalar.indexCast v226
  let c10 : Index := 10#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v390 : Index := Scalar.indexCast v327
  let c0_484 : Index := 0#32
  ![1, v389.toNat, 10, v390.toNat, 0]
def k0_off1738 (v1 : BitVec 32) (k0_t34 : Fin (k0_t34_loop v1).trips) (v228 : BitVec 32) (v257 : BitVec 32) (k0_t47 : Fin (k0_t47_loop v228 v257).trips) : Fin 5 → Nat :=
  let c1_486 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v395 : Index := Scalar.indexCast v226
  let c11 : Index := 11#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v396 : Index := Scalar.indexCast v327
  let c0_487 : Index := 0#32
  ![1, v395.toNat, 11, v396.toNat, 0]
def k0_off1739 (v1 : BitVec 32) (k0_t34 : Fin (k0_t34_loop v1).trips) (v228 : BitVec 32) (v257 : BitVec 32) (k0_t47 : Fin (k0_t47_loop v228 v257).trips) : Fin 5 → Nat :=
  let c1_489 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v401 : Index := Scalar.indexCast v226
  let c12 : Index := 12#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v402 : Index := Scalar.indexCast v327
  let c0_490 : Index := 0#32
  ![1, v401.toNat, 12, v402.toNat, 0]
def k0_off1740 (v1 : BitVec 32) (k0_t34 : Fin (k0_t34_loop v1).trips) (v228 : BitVec 32) (v257 : BitVec 32) (k0_t47 : Fin (k0_t47_loop v228 v257).trips) : Fin 5 → Nat :=
  let c1_492 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v407 : Index := Scalar.indexCast v226
  let c13 : Index := 13#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v408 : Index := Scalar.indexCast v327
  let c0_493 : Index := 0#32
  ![1, v407.toNat, 13, v408.toNat, 0]
def k0_off1741 (v1 : BitVec 32) (k0_t34 : Fin (k0_t34_loop v1).trips) (v228 : BitVec 32) (v257 : BitVec 32) (k0_t47 : Fin (k0_t47_loop v228 v257).trips) : Fin 5 → Nat :=
  let c1_495 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v413 : Index := Scalar.indexCast v226
  let c14 : Index := 14#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v414 : Index := Scalar.indexCast v327
  let c0_496 : Index := 0#32
  ![1, v413.toNat, 14, v414.toNat, 0]
def k0_off1742 (v1 : BitVec 32) (k0_t34 : Fin (k0_t34_loop v1).trips) (v228 : BitVec 32) (v257 : BitVec 32) (k0_t47 : Fin (k0_t47_loop v228 v257).trips) : Fin 5 → Nat :=
  let c1_498 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v419 : Index := Scalar.indexCast v226
  let c15 : Index := 15#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v420 : Index := Scalar.indexCast v327
  let c0_499 : Index := 0#32
  ![1, v419.toNat, 15, v420.toNat, 0]
def k0_off1743 (v1 : BitVec 32) (k0_t34 : Fin (k0_t34_loop v1).trips) (v228 : BitVec 32) (v257 : BitVec 32) (k0_t47 : Fin (k0_t47_loop v228 v257).trips) : Fin 5 → Nat :=
  let c1_501 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v425 : Index := Scalar.indexCast v226
  let c16 : Index := 16#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v426 : Index := Scalar.indexCast v327
  let c0_502 : Index := 0#32
  ![1, v425.toNat, 16, v426.toNat, 0]
def k0_off1744 (v1 : BitVec 32) (k0_t34 : Fin (k0_t34_loop v1).trips) (v228 : BitVec 32) (v257 : BitVec 32) (k0_t47 : Fin (k0_t47_loop v228 v257).trips) : Fin 5 → Nat :=
  let c1_504 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v431 : Index := Scalar.indexCast v226
  let c17 : Index := 17#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v432 : Index := Scalar.indexCast v327
  let c0_505 : Index := 0#32
  ![1, v431.toNat, 17, v432.toNat, 0]
def k0_off1745 (v1 : BitVec 32) (k0_t34 : Fin (k0_t34_loop v1).trips) (v228 : BitVec 32) (v257 : BitVec 32) (k0_t47 : Fin (k0_t47_loop v228 v257).trips) : Fin 5 → Nat :=
  let c1_507 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v437 : Index := Scalar.indexCast v226
  let c18 : Index := 18#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v438 : Index := Scalar.indexCast v327
  let c0_508 : Index := 0#32
  ![1, v437.toNat, 18, v438.toNat, 0]
def k0_off1746 (v1 : BitVec 32) (k0_t34 : Fin (k0_t34_loop v1).trips) (v228 : BitVec 32) (v257 : BitVec 32) (k0_t47 : Fin (k0_t47_loop v228 v257).trips) : Fin 5 → Nat :=
  let c1_510 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v443 : Index := Scalar.indexCast v226
  let c19 : Index := 19#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v444 : Index := Scalar.indexCast v327
  let c0_511 : Index := 0#32
  ![1, v443.toNat, 19, v444.toNat, 0]
def k0_off1747 (v1 : BitVec 32) (k0_t34 : Fin (k0_t34_loop v1).trips) (v228 : BitVec 32) (v257 : BitVec 32) (k0_t47 : Fin (k0_t47_loop v228 v257).trips) : Fin 5 → Nat :=
  let c1_513 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v449 : Index := Scalar.indexCast v226
  let c20 : Index := 20#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v450 : Index := Scalar.indexCast v327
  let c0_514 : Index := 0#32
  ![1, v449.toNat, 20, v450.toNat, 0]
def k0_off1748 (v1 : BitVec 32) (k0_t34 : Fin (k0_t34_loop v1).trips) (v228 : BitVec 32) (v257 : BitVec 32) (k0_t47 : Fin (k0_t47_loop v228 v257).trips) : Fin 5 → Nat :=
  let c1_516 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v455 : Index := Scalar.indexCast v226
  let c21 : Index := 21#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v456 : Index := Scalar.indexCast v327
  let c0_517 : Index := 0#32
  ![1, v455.toNat, 21, v456.toNat, 0]
def k0_off1749 (v1 : BitVec 32) (k0_t34 : Fin (k0_t34_loop v1).trips) (v228 : BitVec 32) (v257 : BitVec 32) (k0_t47 : Fin (k0_t47_loop v228 v257).trips) : Fin 5 → Nat :=
  let c1_519 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v461 : Index := Scalar.indexCast v226
  let c22 : Index := 22#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v462 : Index := Scalar.indexCast v327
  let c0_520 : Index := 0#32
  ![1, v461.toNat, 22, v462.toNat, 0]
def k0_off1750 (v1 : BitVec 32) (k0_t34 : Fin (k0_t34_loop v1).trips) (v228 : BitVec 32) (v257 : BitVec 32) (k0_t47 : Fin (k0_t47_loop v228 v257).trips) : Fin 5 → Nat :=
  let c1_522 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v467 : Index := Scalar.indexCast v226
  let c23 : Index := 23#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v468 : Index := Scalar.indexCast v327
  let c0_523 : Index := 0#32
  ![1, v467.toNat, 23, v468.toNat, 0]
def k0_off1751 (v1 : BitVec 32) (k0_t34 : Fin (k0_t34_loop v1).trips) (v228 : BitVec 32) (v257 : BitVec 32) (k0_t47 : Fin (k0_t47_loop v228 v257).trips) : Fin 5 → Nat :=
  let c1_525 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v473 : Index := Scalar.indexCast v226
  let c24 : Index := 24#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v474 : Index := Scalar.indexCast v327
  let c0_526 : Index := 0#32
  ![1, v473.toNat, 24, v474.toNat, 0]
def k0_off1752 (v1 : BitVec 32) (k0_t34 : Fin (k0_t34_loop v1).trips) (v228 : BitVec 32) (v257 : BitVec 32) (k0_t47 : Fin (k0_t47_loop v228 v257).trips) : Fin 5 → Nat :=
  let c1_528 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v479 : Index := Scalar.indexCast v226
  let c25 : Index := 25#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v480 : Index := Scalar.indexCast v327
  let c0_529 : Index := 0#32
  ![1, v479.toNat, 25, v480.toNat, 0]
def k0_off1753 (v1 : BitVec 32) (k0_t34 : Fin (k0_t34_loop v1).trips) (v228 : BitVec 32) (v257 : BitVec 32) (k0_t47 : Fin (k0_t47_loop v228 v257).trips) : Fin 5 → Nat :=
  let c1_531 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v485 : Index := Scalar.indexCast v226
  let c26 : Index := 26#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v486 : Index := Scalar.indexCast v327
  let c0_532 : Index := 0#32
  ![1, v485.toNat, 26, v486.toNat, 0]
def k0_off1754 (v1 : BitVec 32) (k0_t34 : Fin (k0_t34_loop v1).trips) (v228 : BitVec 32) (v257 : BitVec 32) (k0_t47 : Fin (k0_t47_loop v228 v257).trips) : Fin 5 → Nat :=
  let c1_534 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v491 : Index := Scalar.indexCast v226
  let c27 : Index := 27#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v492 : Index := Scalar.indexCast v327
  let c0_535 : Index := 0#32
  ![1, v491.toNat, 27, v492.toNat, 0]
def k0_off1755 (v1 : BitVec 32) (k0_t34 : Fin (k0_t34_loop v1).trips) (v228 : BitVec 32) (v257 : BitVec 32) (k0_t47 : Fin (k0_t47_loop v228 v257).trips) : Fin 5 → Nat :=
  let c1_537 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v497 : Index := Scalar.indexCast v226
  let c28 : Index := 28#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v498 : Index := Scalar.indexCast v327
  let c0_538 : Index := 0#32
  ![1, v497.toNat, 28, v498.toNat, 0]
def k0_off1756 (v1 : BitVec 32) (k0_t34 : Fin (k0_t34_loop v1).trips) (v228 : BitVec 32) (v257 : BitVec 32) (k0_t47 : Fin (k0_t47_loop v228 v257).trips) : Fin 5 → Nat :=
  let c1_540 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v503 : Index := Scalar.indexCast v226
  let c29 : Index := 29#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v504 : Index := Scalar.indexCast v327
  let c0_541 : Index := 0#32
  ![1, v503.toNat, 29, v504.toNat, 0]
def k0_off1757 (v1 : BitVec 32) (k0_t34 : Fin (k0_t34_loop v1).trips) (v228 : BitVec 32) (v257 : BitVec 32) (k0_t47 : Fin (k0_t47_loop v228 v257).trips) : Fin 5 → Nat :=
  let c1_543 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v509 : Index := Scalar.indexCast v226
  let c30 : Index := 30#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v510 : Index := Scalar.indexCast v327
  let c0_544 : Index := 0#32
  ![1, v509.toNat, 30, v510.toNat, 0]
def k0_off1758 (v1 : BitVec 32) (k0_t34 : Fin (k0_t34_loop v1).trips) (v228 : BitVec 32) (v257 : BitVec 32) (k0_t47 : Fin (k0_t47_loop v228 v257).trips) : Fin 5 → Nat :=
  let c1_546 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v515 : Index := Scalar.indexCast v226
  let c31 : Index := 31#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v516 : Index := Scalar.indexCast v327
  let c0_547 : Index := 0#32
  ![1, v515.toNat, 31, v516.toNat, 0]
def k0_off1759 (v1 : BitVec 32) (k0_t34 : Fin (k0_t34_loop v1).trips) (v228 : BitVec 32) (v257 : BitVec 32) (k0_t47 : Fin (k0_t47_loop v228 v257).trips) : Fin 5 → Nat :=
  let c1_549 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v521 : Index := Scalar.indexCast v226
  let c32 : Index := 32#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v522 : Index := Scalar.indexCast v327
  let c0_550 : Index := 0#32
  ![1, v521.toNat, 32, v522.toNat, 0]
def k0_off1760 (v1 : BitVec 32) (k0_t34 : Fin (k0_t34_loop v1).trips) (v228 : BitVec 32) (v257 : BitVec 32) (k0_t47 : Fin (k0_t47_loop v228 v257).trips) : Fin 5 → Nat :=
  let c1_552 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v527 : Index := Scalar.indexCast v226
  let c33 : Index := 33#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v528 : Index := Scalar.indexCast v327
  let c0_553 : Index := 0#32
  ![1, v527.toNat, 33, v528.toNat, 0]
def k0_off1761 (v1 : BitVec 32) (k0_t34 : Fin (k0_t34_loop v1).trips) (v228 : BitVec 32) (v257 : BitVec 32) (k0_t47 : Fin (k0_t47_loop v228 v257).trips) : Fin 5 → Nat :=
  let c1_555 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v533 : Index := Scalar.indexCast v226
  let c34 : Index := 34#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v534 : Index := Scalar.indexCast v327
  let c0_556 : Index := 0#32
  ![1, v533.toNat, 34, v534.toNat, 0]
def k0_off1762 (v1 : BitVec 32) (k0_t34 : Fin (k0_t34_loop v1).trips) (v228 : BitVec 32) (v257 : BitVec 32) (k0_t47 : Fin (k0_t47_loop v228 v257).trips) : Fin 5 → Nat :=
  let c1_558 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v539 : Index := Scalar.indexCast v226
  let c35 : Index := 35#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v540 : Index := Scalar.indexCast v327
  let c0_559 : Index := 0#32
  ![1, v539.toNat, 35, v540.toNat, 0]
def k0_off1763 (v1 : BitVec 32) (k0_t34 : Fin (k0_t34_loop v1).trips) (v228 : BitVec 32) (v257 : BitVec 32) (k0_t47 : Fin (k0_t47_loop v228 v257).trips) : Fin 5 → Nat :=
  let c1_561 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v545 : Index := Scalar.indexCast v226
  let c36 : Index := 36#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v546 : Index := Scalar.indexCast v327
  let c0_562 : Index := 0#32
  ![1, v545.toNat, 36, v546.toNat, 0]
def k0_off1764 (v1 : BitVec 32) (k0_t34 : Fin (k0_t34_loop v1).trips) (v228 : BitVec 32) (v257 : BitVec 32) (k0_t47 : Fin (k0_t47_loop v228 v257).trips) : Fin 5 → Nat :=
  let c1_564 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v551 : Index := Scalar.indexCast v226
  let c37 : Index := 37#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v552 : Index := Scalar.indexCast v327
  let c0_565 : Index := 0#32
  ![1, v551.toNat, 37, v552.toNat, 0]
def k0_off1765 (v1 : BitVec 32) (k0_t34 : Fin (k0_t34_loop v1).trips) (v228 : BitVec 32) (v257 : BitVec 32) (k0_t47 : Fin (k0_t47_loop v228 v257).trips) : Fin 5 → Nat :=
  let c1_567 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v557 : Index := Scalar.indexCast v226
  let c38 : Index := 38#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v558 : Index := Scalar.indexCast v327
  let c0_568 : Index := 0#32
  ![1, v557.toNat, 38, v558.toNat, 0]
def k0_off1766 (v1 : BitVec 32) (k0_t34 : Fin (k0_t34_loop v1).trips) (v228 : BitVec 32) (v257 : BitVec 32) (k0_t47 : Fin (k0_t47_loop v228 v257).trips) : Fin 5 → Nat :=
  let c1_570 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v563 : Index := Scalar.indexCast v226
  let c39 : Index := 39#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v564 : Index := Scalar.indexCast v327
  let c0_571 : Index := 0#32
  ![1, v563.toNat, 39, v564.toNat, 0]
def k0_off1767 (v1 : BitVec 32) (k0_t34 : Fin (k0_t34_loop v1).trips) (v228 : BitVec 32) (v257 : BitVec 32) (k0_t47 : Fin (k0_t47_loop v228 v257).trips) : Fin 5 → Nat :=
  let c1_573 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v569 : Index := Scalar.indexCast v226
  let c40 : Index := 40#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v570 : Index := Scalar.indexCast v327
  let c0_574 : Index := 0#32
  ![1, v569.toNat, 40, v570.toNat, 0]
def k0_off1768 (v1 : BitVec 32) (k0_t34 : Fin (k0_t34_loop v1).trips) (v228 : BitVec 32) (v257 : BitVec 32) (k0_t47 : Fin (k0_t47_loop v228 v257).trips) : Fin 5 → Nat :=
  let c1_576 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v575 : Index := Scalar.indexCast v226
  let c41 : Index := 41#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v576 : Index := Scalar.indexCast v327
  let c0_577 : Index := 0#32
  ![1, v575.toNat, 41, v576.toNat, 0]
def k0_off1769 (v1 : BitVec 32) (k0_t34 : Fin (k0_t34_loop v1).trips) (v228 : BitVec 32) (v257 : BitVec 32) (k0_t47 : Fin (k0_t47_loop v228 v257).trips) : Fin 5 → Nat :=
  let c1_579 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v581 : Index := Scalar.indexCast v226
  let c42 : Index := 42#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v582 : Index := Scalar.indexCast v327
  let c0_580 : Index := 0#32
  ![1, v581.toNat, 42, v582.toNat, 0]
def k0_off1770 (v1 : BitVec 32) (k0_t34 : Fin (k0_t34_loop v1).trips) (v228 : BitVec 32) (v257 : BitVec 32) (k0_t47 : Fin (k0_t47_loop v228 v257).trips) : Fin 5 → Nat :=
  let c1_582 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v587 : Index := Scalar.indexCast v226
  let c43 : Index := 43#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v588 : Index := Scalar.indexCast v327
  let c0_583 : Index := 0#32
  ![1, v587.toNat, 43, v588.toNat, 0]
def k0_off1771 (v1 : BitVec 32) (k0_t34 : Fin (k0_t34_loop v1).trips) (v228 : BitVec 32) (v257 : BitVec 32) (k0_t47 : Fin (k0_t47_loop v228 v257).trips) : Fin 5 → Nat :=
  let c1_585 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v593 : Index := Scalar.indexCast v226
  let c44 : Index := 44#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v594 : Index := Scalar.indexCast v327
  let c0_586 : Index := 0#32
  ![1, v593.toNat, 44, v594.toNat, 0]
def k0_off1772 (v1 : BitVec 32) (k0_t34 : Fin (k0_t34_loop v1).trips) (v228 : BitVec 32) (v257 : BitVec 32) (k0_t47 : Fin (k0_t47_loop v228 v257).trips) : Fin 5 → Nat :=
  let c1_588 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v599 : Index := Scalar.indexCast v226
  let c45 : Index := 45#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v600 : Index := Scalar.indexCast v327
  let c0_589 : Index := 0#32
  ![1, v599.toNat, 45, v600.toNat, 0]
def k0_off1773 (v1 : BitVec 32) (k0_t34 : Fin (k0_t34_loop v1).trips) (v228 : BitVec 32) (v257 : BitVec 32) (k0_t47 : Fin (k0_t47_loop v228 v257).trips) : Fin 5 → Nat :=
  let c1_591 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v605 : Index := Scalar.indexCast v226
  let c46 : Index := 46#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v606 : Index := Scalar.indexCast v327
  let c0_592 : Index := 0#32
  ![1, v605.toNat, 46, v606.toNat, 0]
def k0_off1774 (v1 : BitVec 32) (k0_t34 : Fin (k0_t34_loop v1).trips) (v228 : BitVec 32) (v257 : BitVec 32) (k0_t47 : Fin (k0_t47_loop v228 v257).trips) : Fin 5 → Nat :=
  let c1_594 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v611 : Index := Scalar.indexCast v226
  let c47 : Index := 47#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v612 : Index := Scalar.indexCast v327
  let c0_595 : Index := 0#32
  ![1, v611.toNat, 47, v612.toNat, 0]
def k0_off1775 (v1 : BitVec 32) (k0_t34 : Fin (k0_t34_loop v1).trips) (v228 : BitVec 32) (v257 : BitVec 32) (k0_t47 : Fin (k0_t47_loop v228 v257).trips) : Fin 5 → Nat :=
  let c1_597 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v617 : Index := Scalar.indexCast v226
  let c48 : Index := 48#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v618 : Index := Scalar.indexCast v327
  let c0_598 : Index := 0#32
  ![1, v617.toNat, 48, v618.toNat, 0]
def k0_off1776 (v1 : BitVec 32) (k0_t34 : Fin (k0_t34_loop v1).trips) (v228 : BitVec 32) (v257 : BitVec 32) (k0_t47 : Fin (k0_t47_loop v228 v257).trips) : Fin 5 → Nat :=
  let c1_600 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v623 : Index := Scalar.indexCast v226
  let c49 : Index := 49#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v624 : Index := Scalar.indexCast v327
  let c0_601 : Index := 0#32
  ![1, v623.toNat, 49, v624.toNat, 0]
def k0_off1777 (v1 : BitVec 32) (k0_t34 : Fin (k0_t34_loop v1).trips) (v228 : BitVec 32) (v257 : BitVec 32) (k0_t47 : Fin (k0_t47_loop v228 v257).trips) : Fin 5 → Nat :=
  let c1_603 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v629 : Index := Scalar.indexCast v226
  let c50 : Index := 50#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v630 : Index := Scalar.indexCast v327
  let c0_604 : Index := 0#32
  ![1, v629.toNat, 50, v630.toNat, 0]
def k0_off1778 (v1 : BitVec 32) (k0_t34 : Fin (k0_t34_loop v1).trips) (v228 : BitVec 32) (v257 : BitVec 32) (k0_t47 : Fin (k0_t47_loop v228 v257).trips) : Fin 5 → Nat :=
  let c1_606 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v635 : Index := Scalar.indexCast v226
  let c51 : Index := 51#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v636 : Index := Scalar.indexCast v327
  let c0_607 : Index := 0#32
  ![1, v635.toNat, 51, v636.toNat, 0]
def k0_off1779 (v1 : BitVec 32) (k0_t34 : Fin (k0_t34_loop v1).trips) (v228 : BitVec 32) (v257 : BitVec 32) (k0_t47 : Fin (k0_t47_loop v228 v257).trips) : Fin 5 → Nat :=
  let c1_609 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v641 : Index := Scalar.indexCast v226
  let c52 : Index := 52#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v642 : Index := Scalar.indexCast v327
  let c0_610 : Index := 0#32
  ![1, v641.toNat, 52, v642.toNat, 0]
def k0_off1780 (v1 : BitVec 32) (k0_t34 : Fin (k0_t34_loop v1).trips) (v228 : BitVec 32) (v257 : BitVec 32) (k0_t47 : Fin (k0_t47_loop v228 v257).trips) : Fin 5 → Nat :=
  let c1_612 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v647 : Index := Scalar.indexCast v226
  let c53 : Index := 53#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v648 : Index := Scalar.indexCast v327
  let c0_613 : Index := 0#32
  ![1, v647.toNat, 53, v648.toNat, 0]
def k0_off1781 (v1 : BitVec 32) (k0_t34 : Fin (k0_t34_loop v1).trips) (v228 : BitVec 32) (v257 : BitVec 32) (k0_t47 : Fin (k0_t47_loop v228 v257).trips) : Fin 5 → Nat :=
  let c1_615 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v653 : Index := Scalar.indexCast v226
  let c54 : Index := 54#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v654 : Index := Scalar.indexCast v327
  let c0_616 : Index := 0#32
  ![1, v653.toNat, 54, v654.toNat, 0]
def k0_off1782 (v1 : BitVec 32) (k0_t34 : Fin (k0_t34_loop v1).trips) (v228 : BitVec 32) (v257 : BitVec 32) (k0_t47 : Fin (k0_t47_loop v228 v257).trips) : Fin 5 → Nat :=
  let c1_618 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v659 : Index := Scalar.indexCast v226
  let c55 : Index := 55#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v660 : Index := Scalar.indexCast v327
  let c0_619 : Index := 0#32
  ![1, v659.toNat, 55, v660.toNat, 0]
def k0_off1783 (v1 : BitVec 32) (k0_t34 : Fin (k0_t34_loop v1).trips) (v228 : BitVec 32) (v257 : BitVec 32) (k0_t47 : Fin (k0_t47_loop v228 v257).trips) : Fin 5 → Nat :=
  let c1_621 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v665 : Index := Scalar.indexCast v226
  let c56 : Index := 56#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v666 : Index := Scalar.indexCast v327
  let c0_622 : Index := 0#32
  ![1, v665.toNat, 56, v666.toNat, 0]
def k0_off1784 (v1 : BitVec 32) (k0_t34 : Fin (k0_t34_loop v1).trips) (v228 : BitVec 32) (v257 : BitVec 32) (k0_t47 : Fin (k0_t47_loop v228 v257).trips) : Fin 5 → Nat :=
  let c1_624 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v671 : Index := Scalar.indexCast v226
  let c57 : Index := 57#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v672 : Index := Scalar.indexCast v327
  let c0_625 : Index := 0#32
  ![1, v671.toNat, 57, v672.toNat, 0]
def k0_off1785 (v1 : BitVec 32) (k0_t34 : Fin (k0_t34_loop v1).trips) (v228 : BitVec 32) (v257 : BitVec 32) (k0_t47 : Fin (k0_t47_loop v228 v257).trips) : Fin 5 → Nat :=
  let c1_627 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v677 : Index := Scalar.indexCast v226
  let c58 : Index := 58#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v678 : Index := Scalar.indexCast v327
  let c0_628 : Index := 0#32
  ![1, v677.toNat, 58, v678.toNat, 0]
def k0_off1786 (v1 : BitVec 32) (k0_t34 : Fin (k0_t34_loop v1).trips) (v228 : BitVec 32) (v257 : BitVec 32) (k0_t47 : Fin (k0_t47_loop v228 v257).trips) : Fin 5 → Nat :=
  let c1_630 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v683 : Index := Scalar.indexCast v226
  let c59 : Index := 59#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v684 : Index := Scalar.indexCast v327
  let c0_631 : Index := 0#32
  ![1, v683.toNat, 59, v684.toNat, 0]
def k0_off1787 (v1 : BitVec 32) (k0_t34 : Fin (k0_t34_loop v1).trips) (v228 : BitVec 32) (v257 : BitVec 32) (k0_t47 : Fin (k0_t47_loop v228 v257).trips) : Fin 5 → Nat :=
  let c1_633 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v689 : Index := Scalar.indexCast v226
  let c60 : Index := 60#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v690 : Index := Scalar.indexCast v327
  let c0_634 : Index := 0#32
  ![1, v689.toNat, 60, v690.toNat, 0]
def k0_off1788 (v1 : BitVec 32) (k0_t34 : Fin (k0_t34_loop v1).trips) (v228 : BitVec 32) (v257 : BitVec 32) (k0_t47 : Fin (k0_t47_loop v228 v257).trips) : Fin 5 → Nat :=
  let c1_636 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v695 : Index := Scalar.indexCast v226
  let c61 : Index := 61#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v696 : Index := Scalar.indexCast v327
  let c0_637 : Index := 0#32
  ![1, v695.toNat, 61, v696.toNat, 0]
def k0_off1789 (v1 : BitVec 32) (k0_t34 : Fin (k0_t34_loop v1).trips) (v228 : BitVec 32) (v257 : BitVec 32) (k0_t47 : Fin (k0_t47_loop v228 v257).trips) : Fin 5 → Nat :=
  let c1_639 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v701 : Index := Scalar.indexCast v226
  let c62 : Index := 62#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v702 : Index := Scalar.indexCast v327
  let c0_640 : Index := 0#32
  ![1, v701.toNat, 62, v702.toNat, 0]
def k0_off1790 (v1 : BitVec 32) (k0_t34 : Fin (k0_t34_loop v1).trips) (v228 : BitVec 32) (v257 : BitVec 32) (k0_t47 : Fin (k0_t47_loop v228 v257).trips) : Fin 5 → Nat :=
  let c1_642 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v707 : Index := Scalar.indexCast v226
  let c63 : Index := 63#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v708 : Index := Scalar.indexCast v327
  let c0_643 : Index := 0#32
  ![1, v707.toNat, 63, v708.toNat, 0]
def k0_off1791 (v1 : BitVec 32) (k0_t34 : Fin (k0_t34_loop v1).trips) (v228 : BitVec 32) (v257 : BitVec 32) (k0_t47 : Fin (k0_t47_loop v228 v257).trips) : Fin 5 → Nat :=
  let c1_645 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v713 : Index := Scalar.indexCast v226
  let c64 : Index := 64#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v714 : Index := Scalar.indexCast v327
  let c0_646 : Index := 0#32
  ![1, v713.toNat, 64, v714.toNat, 0]
def k0_off1792 (v1 : BitVec 32) (k0_t34 : Fin (k0_t34_loop v1).trips) (v228 : BitVec 32) (v257 : BitVec 32) (k0_t47 : Fin (k0_t47_loop v228 v257).trips) : Fin 5 → Nat :=
  let c1_648 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v719 : Index := Scalar.indexCast v226
  let c65 : Index := 65#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v720 : Index := Scalar.indexCast v327
  let c0_649 : Index := 0#32
  ![1, v719.toNat, 65, v720.toNat, 0]
def k0_off1793 (v1 : BitVec 32) (k0_t34 : Fin (k0_t34_loop v1).trips) (v228 : BitVec 32) (v257 : BitVec 32) (k0_t47 : Fin (k0_t47_loop v228 v257).trips) : Fin 5 → Nat :=
  let c1_651 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v725 : Index := Scalar.indexCast v226
  let c66 : Index := 66#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v726 : Index := Scalar.indexCast v327
  let c0_652 : Index := 0#32
  ![1, v725.toNat, 66, v726.toNat, 0]
def k0_off1794 (v1 : BitVec 32) (k0_t34 : Fin (k0_t34_loop v1).trips) (v228 : BitVec 32) (v257 : BitVec 32) (k0_t47 : Fin (k0_t47_loop v228 v257).trips) : Fin 5 → Nat :=
  let c1_654 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v731 : Index := Scalar.indexCast v226
  let c67 : Index := 67#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v732 : Index := Scalar.indexCast v327
  let c0_655 : Index := 0#32
  ![1, v731.toNat, 67, v732.toNat, 0]
def k0_off1795 (v1 : BitVec 32) (k0_t34 : Fin (k0_t34_loop v1).trips) (v228 : BitVec 32) (v257 : BitVec 32) (k0_t47 : Fin (k0_t47_loop v228 v257).trips) : Fin 5 → Nat :=
  let c1_657 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v737 : Index := Scalar.indexCast v226
  let c68 : Index := 68#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v738 : Index := Scalar.indexCast v327
  let c0_658 : Index := 0#32
  ![1, v737.toNat, 68, v738.toNat, 0]
def k0_off1796 (v1 : BitVec 32) (k0_t34 : Fin (k0_t34_loop v1).trips) (v228 : BitVec 32) (v257 : BitVec 32) (k0_t47 : Fin (k0_t47_loop v228 v257).trips) : Fin 5 → Nat :=
  let c1_660 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v743 : Index := Scalar.indexCast v226
  let c69 : Index := 69#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v744 : Index := Scalar.indexCast v327
  let c0_661 : Index := 0#32
  ![1, v743.toNat, 69, v744.toNat, 0]
def k0_off1797 (v1 : BitVec 32) (k0_t34 : Fin (k0_t34_loop v1).trips) (v228 : BitVec 32) (v257 : BitVec 32) (k0_t47 : Fin (k0_t47_loop v228 v257).trips) : Fin 5 → Nat :=
  let c1_663 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v749 : Index := Scalar.indexCast v226
  let c70 : Index := 70#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v750 : Index := Scalar.indexCast v327
  let c0_664 : Index := 0#32
  ![1, v749.toNat, 70, v750.toNat, 0]
def k0_off1798 (v1 : BitVec 32) (k0_t34 : Fin (k0_t34_loop v1).trips) (v228 : BitVec 32) (v257 : BitVec 32) (k0_t47 : Fin (k0_t47_loop v228 v257).trips) : Fin 5 → Nat :=
  let c1_666 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v755 : Index := Scalar.indexCast v226
  let c71 : Index := 71#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v756 : Index := Scalar.indexCast v327
  let c0_667 : Index := 0#32
  ![1, v755.toNat, 71, v756.toNat, 0]
def k0_off1799 (v1 : BitVec 32) (k0_t34 : Fin (k0_t34_loop v1).trips) (v228 : BitVec 32) (v257 : BitVec 32) (k0_t47 : Fin (k0_t47_loop v228 v257).trips) : Fin 5 → Nat :=
  let c1_669 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v761 : Index := Scalar.indexCast v226
  let c72 : Index := 72#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v762 : Index := Scalar.indexCast v327
  let c0_670 : Index := 0#32
  ![1, v761.toNat, 72, v762.toNat, 0]
def k0_off1800 (v1 : BitVec 32) (k0_t34 : Fin (k0_t34_loop v1).trips) (v228 : BitVec 32) (v257 : BitVec 32) (k0_t47 : Fin (k0_t47_loop v228 v257).trips) : Fin 5 → Nat :=
  let c1_672 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v767 : Index := Scalar.indexCast v226
  let c73 : Index := 73#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v768 : Index := Scalar.indexCast v327
  let c0_673 : Index := 0#32
  ![1, v767.toNat, 73, v768.toNat, 0]
def k0_off1801 (v1 : BitVec 32) (k0_t34 : Fin (k0_t34_loop v1).trips) (v228 : BitVec 32) (v257 : BitVec 32) (k0_t47 : Fin (k0_t47_loop v228 v257).trips) : Fin 5 → Nat :=
  let c1_675 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v773 : Index := Scalar.indexCast v226
  let c74 : Index := 74#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v774 : Index := Scalar.indexCast v327
  let c0_676 : Index := 0#32
  ![1, v773.toNat, 74, v774.toNat, 0]
def k0_off1802 (v1 : BitVec 32) (k0_t34 : Fin (k0_t34_loop v1).trips) (v228 : BitVec 32) (v257 : BitVec 32) (k0_t47 : Fin (k0_t47_loop v228 v257).trips) : Fin 5 → Nat :=
  let c1_678 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v779 : Index := Scalar.indexCast v226
  let c75 : Index := 75#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v780 : Index := Scalar.indexCast v327
  let c0_679 : Index := 0#32
  ![1, v779.toNat, 75, v780.toNat, 0]
def k0_off1803 (v1 : BitVec 32) (k0_t34 : Fin (k0_t34_loop v1).trips) (v228 : BitVec 32) (v257 : BitVec 32) (k0_t47 : Fin (k0_t47_loop v228 v257).trips) : Fin 5 → Nat :=
  let c1_681 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v785 : Index := Scalar.indexCast v226
  let c76 : Index := 76#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v786 : Index := Scalar.indexCast v327
  let c0_682 : Index := 0#32
  ![1, v785.toNat, 76, v786.toNat, 0]
def k0_off1804 (v1 : BitVec 32) (k0_t34 : Fin (k0_t34_loop v1).trips) (v228 : BitVec 32) (v257 : BitVec 32) (k0_t47 : Fin (k0_t47_loop v228 v257).trips) : Fin 5 → Nat :=
  let c1_684 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v791 : Index := Scalar.indexCast v226
  let c77 : Index := 77#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v792 : Index := Scalar.indexCast v327
  let c0_685 : Index := 0#32
  ![1, v791.toNat, 77, v792.toNat, 0]
def k0_off1805 (v1 : BitVec 32) (k0_t34 : Fin (k0_t34_loop v1).trips) (v228 : BitVec 32) (v257 : BitVec 32) (k0_t47 : Fin (k0_t47_loop v228 v257).trips) : Fin 5 → Nat :=
  let c1_687 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v797 : Index := Scalar.indexCast v226
  let c78 : Index := 78#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v798 : Index := Scalar.indexCast v327
  let c0_688 : Index := 0#32
  ![1, v797.toNat, 78, v798.toNat, 0]
def k0_off1806 (v1 : BitVec 32) (k0_t34 : Fin (k0_t34_loop v1).trips) (v228 : BitVec 32) (v257 : BitVec 32) (k0_t47 : Fin (k0_t47_loop v228 v257).trips) : Fin 5 → Nat :=
  let c1_690 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v803 : Index := Scalar.indexCast v226
  let c79 : Index := 79#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v804 : Index := Scalar.indexCast v327
  let c0_691 : Index := 0#32
  ![1, v803.toNat, 79, v804.toNat, 0]
def k0_off1807 (v1 : BitVec 32) (k0_t34 : Fin (k0_t34_loop v1).trips) (v228 : BitVec 32) (v257 : BitVec 32) (k0_t47 : Fin (k0_t47_loop v228 v257).trips) : Fin 5 → Nat :=
  let c1_693 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v809 : Index := Scalar.indexCast v226
  let c80 : Index := 80#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v810 : Index := Scalar.indexCast v327
  let c0_694 : Index := 0#32
  ![1, v809.toNat, 80, v810.toNat, 0]
def k0_off1808 (v1 : BitVec 32) (k0_t34 : Fin (k0_t34_loop v1).trips) (v228 : BitVec 32) (v257 : BitVec 32) (k0_t47 : Fin (k0_t47_loop v228 v257).trips) : Fin 5 → Nat :=
  let c1_696 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v815 : Index := Scalar.indexCast v226
  let c81 : Index := 81#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v816 : Index := Scalar.indexCast v327
  let c0_697 : Index := 0#32
  ![1, v815.toNat, 81, v816.toNat, 0]
def k0_off1809 (v1 : BitVec 32) (k0_t34 : Fin (k0_t34_loop v1).trips) (v228 : BitVec 32) (v257 : BitVec 32) (k0_t47 : Fin (k0_t47_loop v228 v257).trips) : Fin 5 → Nat :=
  let c1_699 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v821 : Index := Scalar.indexCast v226
  let c82 : Index := 82#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v822 : Index := Scalar.indexCast v327
  let c0_700 : Index := 0#32
  ![1, v821.toNat, 82, v822.toNat, 0]
def k0_off1810 (v1 : BitVec 32) (k0_t34 : Fin (k0_t34_loop v1).trips) (v228 : BitVec 32) (v257 : BitVec 32) (k0_t47 : Fin (k0_t47_loop v228 v257).trips) : Fin 5 → Nat :=
  let c1_702 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v827 : Index := Scalar.indexCast v226
  let c83 : Index := 83#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v828 : Index := Scalar.indexCast v327
  let c0_703 : Index := 0#32
  ![1, v827.toNat, 83, v828.toNat, 0]
def k0_off1811 (v1 : BitVec 32) (k0_t34 : Fin (k0_t34_loop v1).trips) (v228 : BitVec 32) (v257 : BitVec 32) (k0_t47 : Fin (k0_t47_loop v228 v257).trips) : Fin 5 → Nat :=
  let c1_705 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v833 : Index := Scalar.indexCast v226
  let c84 : Index := 84#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v834 : Index := Scalar.indexCast v327
  let c0_706 : Index := 0#32
  ![1, v833.toNat, 84, v834.toNat, 0]
def k0_off1812 (v1 : BitVec 32) (k0_t34 : Fin (k0_t34_loop v1).trips) (v228 : BitVec 32) (v257 : BitVec 32) (k0_t47 : Fin (k0_t47_loop v228 v257).trips) : Fin 5 → Nat :=
  let c1_708 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v839 : Index := Scalar.indexCast v226
  let c85 : Index := 85#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v840 : Index := Scalar.indexCast v327
  let c0_709 : Index := 0#32
  ![1, v839.toNat, 85, v840.toNat, 0]
def k0_off1813 (v1 : BitVec 32) (k0_t34 : Fin (k0_t34_loop v1).trips) (v228 : BitVec 32) (v257 : BitVec 32) (k0_t47 : Fin (k0_t47_loop v228 v257).trips) : Fin 5 → Nat :=
  let c1_711 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v845 : Index := Scalar.indexCast v226
  let c86 : Index := 86#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v846 : Index := Scalar.indexCast v327
  let c0_712 : Index := 0#32
  ![1, v845.toNat, 86, v846.toNat, 0]
def k0_off1814 (v1 : BitVec 32) (k0_t34 : Fin (k0_t34_loop v1).trips) (v228 : BitVec 32) (v257 : BitVec 32) (k0_t47 : Fin (k0_t47_loop v228 v257).trips) : Fin 5 → Nat :=
  let c1_714 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v851 : Index := Scalar.indexCast v226
  let c87 : Index := 87#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v852 : Index := Scalar.indexCast v327
  let c0_715 : Index := 0#32
  ![1, v851.toNat, 87, v852.toNat, 0]
def k0_off1815 (v1 : BitVec 32) (k0_t34 : Fin (k0_t34_loop v1).trips) (v228 : BitVec 32) (v257 : BitVec 32) (k0_t47 : Fin (k0_t47_loop v228 v257).trips) : Fin 5 → Nat :=
  let c1_717 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v857 : Index := Scalar.indexCast v226
  let c88 : Index := 88#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v858 : Index := Scalar.indexCast v327
  let c0_718 : Index := 0#32
  ![1, v857.toNat, 88, v858.toNat, 0]
def k0_off1816 (v1 : BitVec 32) (k0_t34 : Fin (k0_t34_loop v1).trips) (v228 : BitVec 32) (v257 : BitVec 32) (k0_t47 : Fin (k0_t47_loop v228 v257).trips) : Fin 5 → Nat :=
  let c1_720 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v863 : Index := Scalar.indexCast v226
  let c89 : Index := 89#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v864 : Index := Scalar.indexCast v327
  let c0_721 : Index := 0#32
  ![1, v863.toNat, 89, v864.toNat, 0]
def k0_off1817 (v1 : BitVec 32) (k0_t34 : Fin (k0_t34_loop v1).trips) (v228 : BitVec 32) (v257 : BitVec 32) (k0_t47 : Fin (k0_t47_loop v228 v257).trips) : Fin 5 → Nat :=
  let c1_723 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v869 : Index := Scalar.indexCast v226
  let c90 : Index := 90#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v870 : Index := Scalar.indexCast v327
  let c0_724 : Index := 0#32
  ![1, v869.toNat, 90, v870.toNat, 0]
def k0_off1818 (v1 : BitVec 32) (k0_t34 : Fin (k0_t34_loop v1).trips) (v228 : BitVec 32) (v257 : BitVec 32) (k0_t47 : Fin (k0_t47_loop v228 v257).trips) : Fin 5 → Nat :=
  let c1_726 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v875 : Index := Scalar.indexCast v226
  let c91 : Index := 91#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v876 : Index := Scalar.indexCast v327
  let c0_727 : Index := 0#32
  ![1, v875.toNat, 91, v876.toNat, 0]
def k0_off1819 (v1 : BitVec 32) (k0_t34 : Fin (k0_t34_loop v1).trips) (v228 : BitVec 32) (v257 : BitVec 32) (k0_t47 : Fin (k0_t47_loop v228 v257).trips) : Fin 5 → Nat :=
  let c1_729 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v881 : Index := Scalar.indexCast v226
  let c92 : Index := 92#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v882 : Index := Scalar.indexCast v327
  let c0_730 : Index := 0#32
  ![1, v881.toNat, 92, v882.toNat, 0]
def k0_off1820 (v1 : BitVec 32) (k0_t34 : Fin (k0_t34_loop v1).trips) (v228 : BitVec 32) (v257 : BitVec 32) (k0_t47 : Fin (k0_t47_loop v228 v257).trips) : Fin 5 → Nat :=
  let c1_732 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v887 : Index := Scalar.indexCast v226
  let c93 : Index := 93#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v888 : Index := Scalar.indexCast v327
  let c0_733 : Index := 0#32
  ![1, v887.toNat, 93, v888.toNat, 0]
def k0_off1821 (v1 : BitVec 32) (k0_t34 : Fin (k0_t34_loop v1).trips) (v228 : BitVec 32) (v257 : BitVec 32) (k0_t47 : Fin (k0_t47_loop v228 v257).trips) : Fin 5 → Nat :=
  let c1_735 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v893 : Index := Scalar.indexCast v226
  let c94 : Index := 94#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v894 : Index := Scalar.indexCast v327
  let c0_736 : Index := 0#32
  ![1, v893.toNat, 94, v894.toNat, 0]
def k0_off1822 (v1 : BitVec 32) (k0_t34 : Fin (k0_t34_loop v1).trips) (v228 : BitVec 32) (v257 : BitVec 32) (k0_t47 : Fin (k0_t47_loop v228 v257).trips) : Fin 5 → Nat :=
  let c1_738 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v899 : Index := Scalar.indexCast v226
  let c95 : Index := 95#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v900 : Index := Scalar.indexCast v327
  let c0_739 : Index := 0#32
  ![1, v899.toNat, 95, v900.toNat, 0]
def k0_off1823 (v1 : BitVec 32) (k0_t34 : Fin (k0_t34_loop v1).trips) (v228 : BitVec 32) (v257 : BitVec 32) (k0_t47 : Fin (k0_t47_loop v228 v257).trips) : Fin 5 → Nat :=
  let c1_741 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v905 : Index := Scalar.indexCast v226
  let c96 : Index := 96#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v906 : Index := Scalar.indexCast v327
  let c0_742 : Index := 0#32
  ![1, v905.toNat, 96, v906.toNat, 0]
def k0_off1824 (v1 : BitVec 32) (k0_t34 : Fin (k0_t34_loop v1).trips) (v228 : BitVec 32) (v257 : BitVec 32) (k0_t47 : Fin (k0_t47_loop v228 v257).trips) : Fin 5 → Nat :=
  let c1_744 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v911 : Index := Scalar.indexCast v226
  let c97 : Index := 97#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v912 : Index := Scalar.indexCast v327
  let c0_745 : Index := 0#32
  ![1, v911.toNat, 97, v912.toNat, 0]
def k0_off1825 (v1 : BitVec 32) (k0_t34 : Fin (k0_t34_loop v1).trips) (v228 : BitVec 32) (v257 : BitVec 32) (k0_t47 : Fin (k0_t47_loop v228 v257).trips) : Fin 5 → Nat :=
  let c1_747 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v917 : Index := Scalar.indexCast v226
  let c98 : Index := 98#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v918 : Index := Scalar.indexCast v327
  let c0_748 : Index := 0#32
  ![1, v917.toNat, 98, v918.toNat, 0]
def k0_off1826 (v1 : BitVec 32) (k0_t34 : Fin (k0_t34_loop v1).trips) (v228 : BitVec 32) (v257 : BitVec 32) (k0_t47 : Fin (k0_t47_loop v228 v257).trips) : Fin 5 → Nat :=
  let c1_750 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v923 : Index := Scalar.indexCast v226
  let c99 : Index := 99#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v924 : Index := Scalar.indexCast v327
  let c0_751 : Index := 0#32
  ![1, v923.toNat, 99, v924.toNat, 0]
def k0_off1827 (v1 : BitVec 32) (k0_t34 : Fin (k0_t34_loop v1).trips) (v228 : BitVec 32) (v257 : BitVec 32) (k0_t47 : Fin (k0_t47_loop v228 v257).trips) : Fin 5 → Nat :=
  let c1_753 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v929 : Index := Scalar.indexCast v226
  let c100 : Index := 100#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v930 : Index := Scalar.indexCast v327
  let c0_754 : Index := 0#32
  ![1, v929.toNat, 100, v930.toNat, 0]
def k0_off1828 (v1 : BitVec 32) (k0_t34 : Fin (k0_t34_loop v1).trips) (v228 : BitVec 32) (v257 : BitVec 32) (k0_t47 : Fin (k0_t47_loop v228 v257).trips) : Fin 5 → Nat :=
  let c1_756 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v935 : Index := Scalar.indexCast v226
  let c101 : Index := 101#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v936 : Index := Scalar.indexCast v327
  let c0_757 : Index := 0#32
  ![1, v935.toNat, 101, v936.toNat, 0]
def k0_off1829 (v1 : BitVec 32) (k0_t34 : Fin (k0_t34_loop v1).trips) (v228 : BitVec 32) (v257 : BitVec 32) (k0_t47 : Fin (k0_t47_loop v228 v257).trips) : Fin 5 → Nat :=
  let c1_759 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v941 : Index := Scalar.indexCast v226
  let c102 : Index := 102#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v942 : Index := Scalar.indexCast v327
  let c0_760 : Index := 0#32
  ![1, v941.toNat, 102, v942.toNat, 0]
def k0_off1830 (v1 : BitVec 32) (k0_t34 : Fin (k0_t34_loop v1).trips) (v228 : BitVec 32) (v257 : BitVec 32) (k0_t47 : Fin (k0_t47_loop v228 v257).trips) : Fin 5 → Nat :=
  let c1_762 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v947 : Index := Scalar.indexCast v226
  let c103 : Index := 103#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v948 : Index := Scalar.indexCast v327
  let c0_763 : Index := 0#32
  ![1, v947.toNat, 103, v948.toNat, 0]
def k0_off1831 (v1 : BitVec 32) (k0_t34 : Fin (k0_t34_loop v1).trips) (v228 : BitVec 32) (v257 : BitVec 32) (k0_t47 : Fin (k0_t47_loop v228 v257).trips) : Fin 5 → Nat :=
  let c1_765 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v953 : Index := Scalar.indexCast v226
  let c104 : Index := 104#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v954 : Index := Scalar.indexCast v327
  let c0_766 : Index := 0#32
  ![1, v953.toNat, 104, v954.toNat, 0]
def k0_off1832 (v1 : BitVec 32) (k0_t34 : Fin (k0_t34_loop v1).trips) (v228 : BitVec 32) (v257 : BitVec 32) (k0_t47 : Fin (k0_t47_loop v228 v257).trips) : Fin 5 → Nat :=
  let c1_768 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v959 : Index := Scalar.indexCast v226
  let c105 : Index := 105#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v960 : Index := Scalar.indexCast v327
  let c0_769 : Index := 0#32
  ![1, v959.toNat, 105, v960.toNat, 0]
def k0_off1833 (v1 : BitVec 32) (k0_t34 : Fin (k0_t34_loop v1).trips) (v228 : BitVec 32) (v257 : BitVec 32) (k0_t47 : Fin (k0_t47_loop v228 v257).trips) : Fin 5 → Nat :=
  let c1_771 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v965 : Index := Scalar.indexCast v226
  let c106 : Index := 106#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v966 : Index := Scalar.indexCast v327
  let c0_772 : Index := 0#32
  ![1, v965.toNat, 106, v966.toNat, 0]
def k0_off1834 (v1 : BitVec 32) (k0_t34 : Fin (k0_t34_loop v1).trips) (v228 : BitVec 32) (v257 : BitVec 32) (k0_t47 : Fin (k0_t47_loop v228 v257).trips) : Fin 5 → Nat :=
  let c1_774 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v971 : Index := Scalar.indexCast v226
  let c107 : Index := 107#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t47
  let c16_i32_452 : BitVec 32 := 16#32
  let v326 : BitVec 32 := Scalar.muli arg19 c16_i32_452
  let v327 : BitVec 32 := v326
  let v972 : Index := Scalar.indexCast v327
  let c0_775 : Index := 0#32
  ![1, v971.toNat, 107, v972.toNat, 0]
@[reducible] def k0_t48_loop (v228 : BitVec 32) (v257 : BitVec 32) : Scf.Loop 32 :=
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let v310 : BitVec 32 := Scalar.addi v265 v309
  let c1_i32_441 : BitVec 32 := 1#32
  ⟨v313, v310, c1_i32_441⟩
def k0_mult15 (v228 : BitVec 32) (v257 : BitVec 32) (k0_t48 : Fin (k0_t48_loop v228 v257).trips) : BitVec 32 :=
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  v326
def k0_off1835 (v1 : BitVec 32) (k0_t34 : Fin (k0_t34_loop v1).trips) (v228 : BitVec 32) (v257 : BitVec 32) (k0_t48 : Fin (k0_t48_loop v228 v257).trips) : Fin 5 → Nat :=
  let c1 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v329 : Index := Scalar.indexCast v226
  let c0 : Index := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v330 : Index := Scalar.indexCast v327
  let c0_453 : Index := 0#32
  ![1, v329.toNat, 0, v330.toNat, 0]
def k0_off1836 (v1 : BitVec 32) (k0_t34 : Fin (k0_t34_loop v1).trips) (v228 : BitVec 32) (v257 : BitVec 32) (k0_t48 : Fin (k0_t48_loop v228 v257).trips) : Fin 5 → Nat :=
  let c1_455 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v335 : Index := Scalar.indexCast v226
  let c1_456 : Index := 1#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v336 : Index := Scalar.indexCast v327
  let c0_457 : Index := 0#32
  ![1, v335.toNat, 1, v336.toNat, 0]
def k0_off1837 (v1 : BitVec 32) (k0_t34 : Fin (k0_t34_loop v1).trips) (v228 : BitVec 32) (v257 : BitVec 32) (k0_t48 : Fin (k0_t48_loop v228 v257).trips) : Fin 5 → Nat :=
  let c1_459 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v341 : Index := Scalar.indexCast v226
  let c2 : Index := 2#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v342 : Index := Scalar.indexCast v327
  let c0_460 : Index := 0#32
  ![1, v341.toNat, 2, v342.toNat, 0]
def k0_off1838 (v1 : BitVec 32) (k0_t34 : Fin (k0_t34_loop v1).trips) (v228 : BitVec 32) (v257 : BitVec 32) (k0_t48 : Fin (k0_t48_loop v228 v257).trips) : Fin 5 → Nat :=
  let c1_462 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v347 : Index := Scalar.indexCast v226
  let c3 : Index := 3#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v348 : Index := Scalar.indexCast v327
  let c0_463 : Index := 0#32
  ![1, v347.toNat, 3, v348.toNat, 0]
def k0_off1839 (v1 : BitVec 32) (k0_t34 : Fin (k0_t34_loop v1).trips) (v228 : BitVec 32) (v257 : BitVec 32) (k0_t48 : Fin (k0_t48_loop v228 v257).trips) : Fin 5 → Nat :=
  let c1_465 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v353 : Index := Scalar.indexCast v226
  let c4 : Index := 4#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v354 : Index := Scalar.indexCast v327
  let c0_466 : Index := 0#32
  ![1, v353.toNat, 4, v354.toNat, 0]
def k0_off1840 (v1 : BitVec 32) (k0_t34 : Fin (k0_t34_loop v1).trips) (v228 : BitVec 32) (v257 : BitVec 32) (k0_t48 : Fin (k0_t48_loop v228 v257).trips) : Fin 5 → Nat :=
  let c1_468 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v359 : Index := Scalar.indexCast v226
  let c5 : Index := 5#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v360 : Index := Scalar.indexCast v327
  let c0_469 : Index := 0#32
  ![1, v359.toNat, 5, v360.toNat, 0]
def k0_off1841 (v1 : BitVec 32) (k0_t34 : Fin (k0_t34_loop v1).trips) (v228 : BitVec 32) (v257 : BitVec 32) (k0_t48 : Fin (k0_t48_loop v228 v257).trips) : Fin 5 → Nat :=
  let c1_471 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v365 : Index := Scalar.indexCast v226
  let c6 : Index := 6#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v366 : Index := Scalar.indexCast v327
  let c0_472 : Index := 0#32
  ![1, v365.toNat, 6, v366.toNat, 0]
def k0_off1842 (v1 : BitVec 32) (k0_t34 : Fin (k0_t34_loop v1).trips) (v228 : BitVec 32) (v257 : BitVec 32) (k0_t48 : Fin (k0_t48_loop v228 v257).trips) : Fin 5 → Nat :=
  let c1_474 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v371 : Index := Scalar.indexCast v226
  let c7 : Index := 7#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v372 : Index := Scalar.indexCast v327
  let c0_475 : Index := 0#32
  ![1, v371.toNat, 7, v372.toNat, 0]
def k0_off1843 (v1 : BitVec 32) (k0_t34 : Fin (k0_t34_loop v1).trips) (v228 : BitVec 32) (v257 : BitVec 32) (k0_t48 : Fin (k0_t48_loop v228 v257).trips) : Fin 5 → Nat :=
  let c1_477 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v377 : Index := Scalar.indexCast v226
  let c8 : Index := 8#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v378 : Index := Scalar.indexCast v327
  let c0_478 : Index := 0#32
  ![1, v377.toNat, 8, v378.toNat, 0]
def k0_off1844 (v1 : BitVec 32) (k0_t34 : Fin (k0_t34_loop v1).trips) (v228 : BitVec 32) (v257 : BitVec 32) (k0_t48 : Fin (k0_t48_loop v228 v257).trips) : Fin 5 → Nat :=
  let c1_480 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v383 : Index := Scalar.indexCast v226
  let c9 : Index := 9#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v384 : Index := Scalar.indexCast v327
  let c0_481 : Index := 0#32
  ![1, v383.toNat, 9, v384.toNat, 0]
def k0_off1845 (v1 : BitVec 32) (k0_t34 : Fin (k0_t34_loop v1).trips) (v228 : BitVec 32) (v257 : BitVec 32) (k0_t48 : Fin (k0_t48_loop v228 v257).trips) : Fin 5 → Nat :=
  let c1_483 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v389 : Index := Scalar.indexCast v226
  let c10 : Index := 10#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v390 : Index := Scalar.indexCast v327
  let c0_484 : Index := 0#32
  ![1, v389.toNat, 10, v390.toNat, 0]
def k0_off1846 (v1 : BitVec 32) (k0_t34 : Fin (k0_t34_loop v1).trips) (v228 : BitVec 32) (v257 : BitVec 32) (k0_t48 : Fin (k0_t48_loop v228 v257).trips) : Fin 5 → Nat :=
  let c1_486 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v395 : Index := Scalar.indexCast v226
  let c11 : Index := 11#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v396 : Index := Scalar.indexCast v327
  let c0_487 : Index := 0#32
  ![1, v395.toNat, 11, v396.toNat, 0]
def k0_off1847 (v1 : BitVec 32) (k0_t34 : Fin (k0_t34_loop v1).trips) (v228 : BitVec 32) (v257 : BitVec 32) (k0_t48 : Fin (k0_t48_loop v228 v257).trips) : Fin 5 → Nat :=
  let c1_489 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v401 : Index := Scalar.indexCast v226
  let c12 : Index := 12#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v402 : Index := Scalar.indexCast v327
  let c0_490 : Index := 0#32
  ![1, v401.toNat, 12, v402.toNat, 0]
def k0_off1848 (v1 : BitVec 32) (k0_t34 : Fin (k0_t34_loop v1).trips) (v228 : BitVec 32) (v257 : BitVec 32) (k0_t48 : Fin (k0_t48_loop v228 v257).trips) : Fin 5 → Nat :=
  let c1_492 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v407 : Index := Scalar.indexCast v226
  let c13 : Index := 13#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v408 : Index := Scalar.indexCast v327
  let c0_493 : Index := 0#32
  ![1, v407.toNat, 13, v408.toNat, 0]
def k0_off1849 (v1 : BitVec 32) (k0_t34 : Fin (k0_t34_loop v1).trips) (v228 : BitVec 32) (v257 : BitVec 32) (k0_t48 : Fin (k0_t48_loop v228 v257).trips) : Fin 5 → Nat :=
  let c1_495 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v413 : Index := Scalar.indexCast v226
  let c14 : Index := 14#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v414 : Index := Scalar.indexCast v327
  let c0_496 : Index := 0#32
  ![1, v413.toNat, 14, v414.toNat, 0]
def k0_off1850 (v1 : BitVec 32) (k0_t34 : Fin (k0_t34_loop v1).trips) (v228 : BitVec 32) (v257 : BitVec 32) (k0_t48 : Fin (k0_t48_loop v228 v257).trips) : Fin 5 → Nat :=
  let c1_498 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v419 : Index := Scalar.indexCast v226
  let c15 : Index := 15#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v420 : Index := Scalar.indexCast v327
  let c0_499 : Index := 0#32
  ![1, v419.toNat, 15, v420.toNat, 0]
def k0_off1851 (v1 : BitVec 32) (k0_t34 : Fin (k0_t34_loop v1).trips) (v228 : BitVec 32) (v257 : BitVec 32) (k0_t48 : Fin (k0_t48_loop v228 v257).trips) : Fin 5 → Nat :=
  let c1_501 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v425 : Index := Scalar.indexCast v226
  let c16 : Index := 16#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v426 : Index := Scalar.indexCast v327
  let c0_502 : Index := 0#32
  ![1, v425.toNat, 16, v426.toNat, 0]
def k0_off1852 (v1 : BitVec 32) (k0_t34 : Fin (k0_t34_loop v1).trips) (v228 : BitVec 32) (v257 : BitVec 32) (k0_t48 : Fin (k0_t48_loop v228 v257).trips) : Fin 5 → Nat :=
  let c1_504 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v431 : Index := Scalar.indexCast v226
  let c17 : Index := 17#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v432 : Index := Scalar.indexCast v327
  let c0_505 : Index := 0#32
  ![1, v431.toNat, 17, v432.toNat, 0]
def k0_off1853 (v1 : BitVec 32) (k0_t34 : Fin (k0_t34_loop v1).trips) (v228 : BitVec 32) (v257 : BitVec 32) (k0_t48 : Fin (k0_t48_loop v228 v257).trips) : Fin 5 → Nat :=
  let c1_507 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v437 : Index := Scalar.indexCast v226
  let c18 : Index := 18#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v438 : Index := Scalar.indexCast v327
  let c0_508 : Index := 0#32
  ![1, v437.toNat, 18, v438.toNat, 0]
def k0_off1854 (v1 : BitVec 32) (k0_t34 : Fin (k0_t34_loop v1).trips) (v228 : BitVec 32) (v257 : BitVec 32) (k0_t48 : Fin (k0_t48_loop v228 v257).trips) : Fin 5 → Nat :=
  let c1_510 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v443 : Index := Scalar.indexCast v226
  let c19 : Index := 19#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v444 : Index := Scalar.indexCast v327
  let c0_511 : Index := 0#32
  ![1, v443.toNat, 19, v444.toNat, 0]
def k0_off1855 (v1 : BitVec 32) (k0_t34 : Fin (k0_t34_loop v1).trips) (v228 : BitVec 32) (v257 : BitVec 32) (k0_t48 : Fin (k0_t48_loop v228 v257).trips) : Fin 5 → Nat :=
  let c1_513 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v449 : Index := Scalar.indexCast v226
  let c20 : Index := 20#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v450 : Index := Scalar.indexCast v327
  let c0_514 : Index := 0#32
  ![1, v449.toNat, 20, v450.toNat, 0]
def k0_off1856 (v1 : BitVec 32) (k0_t34 : Fin (k0_t34_loop v1).trips) (v228 : BitVec 32) (v257 : BitVec 32) (k0_t48 : Fin (k0_t48_loop v228 v257).trips) : Fin 5 → Nat :=
  let c1_516 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v455 : Index := Scalar.indexCast v226
  let c21 : Index := 21#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v456 : Index := Scalar.indexCast v327
  let c0_517 : Index := 0#32
  ![1, v455.toNat, 21, v456.toNat, 0]
def k0_off1857 (v1 : BitVec 32) (k0_t34 : Fin (k0_t34_loop v1).trips) (v228 : BitVec 32) (v257 : BitVec 32) (k0_t48 : Fin (k0_t48_loop v228 v257).trips) : Fin 5 → Nat :=
  let c1_519 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v461 : Index := Scalar.indexCast v226
  let c22 : Index := 22#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v462 : Index := Scalar.indexCast v327
  let c0_520 : Index := 0#32
  ![1, v461.toNat, 22, v462.toNat, 0]
def k0_off1858 (v1 : BitVec 32) (k0_t34 : Fin (k0_t34_loop v1).trips) (v228 : BitVec 32) (v257 : BitVec 32) (k0_t48 : Fin (k0_t48_loop v228 v257).trips) : Fin 5 → Nat :=
  let c1_522 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v467 : Index := Scalar.indexCast v226
  let c23 : Index := 23#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v468 : Index := Scalar.indexCast v327
  let c0_523 : Index := 0#32
  ![1, v467.toNat, 23, v468.toNat, 0]
def k0_off1859 (v1 : BitVec 32) (k0_t34 : Fin (k0_t34_loop v1).trips) (v228 : BitVec 32) (v257 : BitVec 32) (k0_t48 : Fin (k0_t48_loop v228 v257).trips) : Fin 5 → Nat :=
  let c1_525 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v473 : Index := Scalar.indexCast v226
  let c24 : Index := 24#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v474 : Index := Scalar.indexCast v327
  let c0_526 : Index := 0#32
  ![1, v473.toNat, 24, v474.toNat, 0]
def k0_off1860 (v1 : BitVec 32) (k0_t34 : Fin (k0_t34_loop v1).trips) (v228 : BitVec 32) (v257 : BitVec 32) (k0_t48 : Fin (k0_t48_loop v228 v257).trips) : Fin 5 → Nat :=
  let c1_528 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v479 : Index := Scalar.indexCast v226
  let c25 : Index := 25#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v480 : Index := Scalar.indexCast v327
  let c0_529 : Index := 0#32
  ![1, v479.toNat, 25, v480.toNat, 0]
def k0_off1861 (v1 : BitVec 32) (k0_t34 : Fin (k0_t34_loop v1).trips) (v228 : BitVec 32) (v257 : BitVec 32) (k0_t48 : Fin (k0_t48_loop v228 v257).trips) : Fin 5 → Nat :=
  let c1_531 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v485 : Index := Scalar.indexCast v226
  let c26 : Index := 26#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v486 : Index := Scalar.indexCast v327
  let c0_532 : Index := 0#32
  ![1, v485.toNat, 26, v486.toNat, 0]
def k0_off1862 (v1 : BitVec 32) (k0_t34 : Fin (k0_t34_loop v1).trips) (v228 : BitVec 32) (v257 : BitVec 32) (k0_t48 : Fin (k0_t48_loop v228 v257).trips) : Fin 5 → Nat :=
  let c1_534 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v491 : Index := Scalar.indexCast v226
  let c27 : Index := 27#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v492 : Index := Scalar.indexCast v327
  let c0_535 : Index := 0#32
  ![1, v491.toNat, 27, v492.toNat, 0]
def k0_off1863 (v1 : BitVec 32) (k0_t34 : Fin (k0_t34_loop v1).trips) (v228 : BitVec 32) (v257 : BitVec 32) (k0_t48 : Fin (k0_t48_loop v228 v257).trips) : Fin 5 → Nat :=
  let c1_537 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v497 : Index := Scalar.indexCast v226
  let c28 : Index := 28#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v498 : Index := Scalar.indexCast v327
  let c0_538 : Index := 0#32
  ![1, v497.toNat, 28, v498.toNat, 0]
def k0_off1864 (v1 : BitVec 32) (k0_t34 : Fin (k0_t34_loop v1).trips) (v228 : BitVec 32) (v257 : BitVec 32) (k0_t48 : Fin (k0_t48_loop v228 v257).trips) : Fin 5 → Nat :=
  let c1_540 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v503 : Index := Scalar.indexCast v226
  let c29 : Index := 29#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v504 : Index := Scalar.indexCast v327
  let c0_541 : Index := 0#32
  ![1, v503.toNat, 29, v504.toNat, 0]
def k0_off1865 (v1 : BitVec 32) (k0_t34 : Fin (k0_t34_loop v1).trips) (v228 : BitVec 32) (v257 : BitVec 32) (k0_t48 : Fin (k0_t48_loop v228 v257).trips) : Fin 5 → Nat :=
  let c1_543 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v509 : Index := Scalar.indexCast v226
  let c30 : Index := 30#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v510 : Index := Scalar.indexCast v327
  let c0_544 : Index := 0#32
  ![1, v509.toNat, 30, v510.toNat, 0]
def k0_off1866 (v1 : BitVec 32) (k0_t34 : Fin (k0_t34_loop v1).trips) (v228 : BitVec 32) (v257 : BitVec 32) (k0_t48 : Fin (k0_t48_loop v228 v257).trips) : Fin 5 → Nat :=
  let c1_546 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v515 : Index := Scalar.indexCast v226
  let c31 : Index := 31#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v516 : Index := Scalar.indexCast v327
  let c0_547 : Index := 0#32
  ![1, v515.toNat, 31, v516.toNat, 0]
def k0_off1867 (v1 : BitVec 32) (k0_t34 : Fin (k0_t34_loop v1).trips) (v228 : BitVec 32) (v257 : BitVec 32) (k0_t48 : Fin (k0_t48_loop v228 v257).trips) : Fin 5 → Nat :=
  let c1_549 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v521 : Index := Scalar.indexCast v226
  let c32 : Index := 32#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v522 : Index := Scalar.indexCast v327
  let c0_550 : Index := 0#32
  ![1, v521.toNat, 32, v522.toNat, 0]
def k0_off1868 (v1 : BitVec 32) (k0_t34 : Fin (k0_t34_loop v1).trips) (v228 : BitVec 32) (v257 : BitVec 32) (k0_t48 : Fin (k0_t48_loop v228 v257).trips) : Fin 5 → Nat :=
  let c1_552 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v527 : Index := Scalar.indexCast v226
  let c33 : Index := 33#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v528 : Index := Scalar.indexCast v327
  let c0_553 : Index := 0#32
  ![1, v527.toNat, 33, v528.toNat, 0]
def k0_off1869 (v1 : BitVec 32) (k0_t34 : Fin (k0_t34_loop v1).trips) (v228 : BitVec 32) (v257 : BitVec 32) (k0_t48 : Fin (k0_t48_loop v228 v257).trips) : Fin 5 → Nat :=
  let c1_555 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v533 : Index := Scalar.indexCast v226
  let c34 : Index := 34#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v534 : Index := Scalar.indexCast v327
  let c0_556 : Index := 0#32
  ![1, v533.toNat, 34, v534.toNat, 0]
def k0_off1870 (v1 : BitVec 32) (k0_t34 : Fin (k0_t34_loop v1).trips) (v228 : BitVec 32) (v257 : BitVec 32) (k0_t48 : Fin (k0_t48_loop v228 v257).trips) : Fin 5 → Nat :=
  let c1_558 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v539 : Index := Scalar.indexCast v226
  let c35 : Index := 35#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v540 : Index := Scalar.indexCast v327
  let c0_559 : Index := 0#32
  ![1, v539.toNat, 35, v540.toNat, 0]
def k0_off1871 (v1 : BitVec 32) (k0_t34 : Fin (k0_t34_loop v1).trips) (v228 : BitVec 32) (v257 : BitVec 32) (k0_t48 : Fin (k0_t48_loop v228 v257).trips) : Fin 5 → Nat :=
  let c1_561 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v545 : Index := Scalar.indexCast v226
  let c36 : Index := 36#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v546 : Index := Scalar.indexCast v327
  let c0_562 : Index := 0#32
  ![1, v545.toNat, 36, v546.toNat, 0]
def k0_off1872 (v1 : BitVec 32) (k0_t34 : Fin (k0_t34_loop v1).trips) (v228 : BitVec 32) (v257 : BitVec 32) (k0_t48 : Fin (k0_t48_loop v228 v257).trips) : Fin 5 → Nat :=
  let c1_564 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v551 : Index := Scalar.indexCast v226
  let c37 : Index := 37#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v552 : Index := Scalar.indexCast v327
  let c0_565 : Index := 0#32
  ![1, v551.toNat, 37, v552.toNat, 0]
def k0_off1873 (v1 : BitVec 32) (k0_t34 : Fin (k0_t34_loop v1).trips) (v228 : BitVec 32) (v257 : BitVec 32) (k0_t48 : Fin (k0_t48_loop v228 v257).trips) : Fin 5 → Nat :=
  let c1_567 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v557 : Index := Scalar.indexCast v226
  let c38 : Index := 38#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v558 : Index := Scalar.indexCast v327
  let c0_568 : Index := 0#32
  ![1, v557.toNat, 38, v558.toNat, 0]
def k0_off1874 (v1 : BitVec 32) (k0_t34 : Fin (k0_t34_loop v1).trips) (v228 : BitVec 32) (v257 : BitVec 32) (k0_t48 : Fin (k0_t48_loop v228 v257).trips) : Fin 5 → Nat :=
  let c1_570 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v563 : Index := Scalar.indexCast v226
  let c39 : Index := 39#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v564 : Index := Scalar.indexCast v327
  let c0_571 : Index := 0#32
  ![1, v563.toNat, 39, v564.toNat, 0]
def k0_off1875 (v1 : BitVec 32) (k0_t34 : Fin (k0_t34_loop v1).trips) (v228 : BitVec 32) (v257 : BitVec 32) (k0_t48 : Fin (k0_t48_loop v228 v257).trips) : Fin 5 → Nat :=
  let c1_573 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v569 : Index := Scalar.indexCast v226
  let c40 : Index := 40#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v570 : Index := Scalar.indexCast v327
  let c0_574 : Index := 0#32
  ![1, v569.toNat, 40, v570.toNat, 0]
def k0_off1876 (v1 : BitVec 32) (k0_t34 : Fin (k0_t34_loop v1).trips) (v228 : BitVec 32) (v257 : BitVec 32) (k0_t48 : Fin (k0_t48_loop v228 v257).trips) : Fin 5 → Nat :=
  let c1_576 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v575 : Index := Scalar.indexCast v226
  let c41 : Index := 41#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v576 : Index := Scalar.indexCast v327
  let c0_577 : Index := 0#32
  ![1, v575.toNat, 41, v576.toNat, 0]
def k0_off1877 (v1 : BitVec 32) (k0_t34 : Fin (k0_t34_loop v1).trips) (v228 : BitVec 32) (v257 : BitVec 32) (k0_t48 : Fin (k0_t48_loop v228 v257).trips) : Fin 5 → Nat :=
  let c1_579 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v581 : Index := Scalar.indexCast v226
  let c42 : Index := 42#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v582 : Index := Scalar.indexCast v327
  let c0_580 : Index := 0#32
  ![1, v581.toNat, 42, v582.toNat, 0]
def k0_off1878 (v1 : BitVec 32) (k0_t34 : Fin (k0_t34_loop v1).trips) (v228 : BitVec 32) (v257 : BitVec 32) (k0_t48 : Fin (k0_t48_loop v228 v257).trips) : Fin 5 → Nat :=
  let c1_582 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v587 : Index := Scalar.indexCast v226
  let c43 : Index := 43#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v588 : Index := Scalar.indexCast v327
  let c0_583 : Index := 0#32
  ![1, v587.toNat, 43, v588.toNat, 0]
def k0_off1879 (v1 : BitVec 32) (k0_t34 : Fin (k0_t34_loop v1).trips) (v228 : BitVec 32) (v257 : BitVec 32) (k0_t48 : Fin (k0_t48_loop v228 v257).trips) : Fin 5 → Nat :=
  let c1_585 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v593 : Index := Scalar.indexCast v226
  let c44 : Index := 44#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v594 : Index := Scalar.indexCast v327
  let c0_586 : Index := 0#32
  ![1, v593.toNat, 44, v594.toNat, 0]
def k0_off1880 (v1 : BitVec 32) (k0_t34 : Fin (k0_t34_loop v1).trips) (v228 : BitVec 32) (v257 : BitVec 32) (k0_t48 : Fin (k0_t48_loop v228 v257).trips) : Fin 5 → Nat :=
  let c1_588 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v599 : Index := Scalar.indexCast v226
  let c45 : Index := 45#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v600 : Index := Scalar.indexCast v327
  let c0_589 : Index := 0#32
  ![1, v599.toNat, 45, v600.toNat, 0]
def k0_off1881 (v1 : BitVec 32) (k0_t34 : Fin (k0_t34_loop v1).trips) (v228 : BitVec 32) (v257 : BitVec 32) (k0_t48 : Fin (k0_t48_loop v228 v257).trips) : Fin 5 → Nat :=
  let c1_591 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v605 : Index := Scalar.indexCast v226
  let c46 : Index := 46#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v606 : Index := Scalar.indexCast v327
  let c0_592 : Index := 0#32
  ![1, v605.toNat, 46, v606.toNat, 0]
def k0_off1882 (v1 : BitVec 32) (k0_t34 : Fin (k0_t34_loop v1).trips) (v228 : BitVec 32) (v257 : BitVec 32) (k0_t48 : Fin (k0_t48_loop v228 v257).trips) : Fin 5 → Nat :=
  let c1_594 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v611 : Index := Scalar.indexCast v226
  let c47 : Index := 47#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v612 : Index := Scalar.indexCast v327
  let c0_595 : Index := 0#32
  ![1, v611.toNat, 47, v612.toNat, 0]
def k0_off1883 (v1 : BitVec 32) (k0_t34 : Fin (k0_t34_loop v1).trips) (v228 : BitVec 32) (v257 : BitVec 32) (k0_t48 : Fin (k0_t48_loop v228 v257).trips) : Fin 5 → Nat :=
  let c1_597 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v617 : Index := Scalar.indexCast v226
  let c48 : Index := 48#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v618 : Index := Scalar.indexCast v327
  let c0_598 : Index := 0#32
  ![1, v617.toNat, 48, v618.toNat, 0]
def k0_off1884 (v1 : BitVec 32) (k0_t34 : Fin (k0_t34_loop v1).trips) (v228 : BitVec 32) (v257 : BitVec 32) (k0_t48 : Fin (k0_t48_loop v228 v257).trips) : Fin 5 → Nat :=
  let c1_600 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v623 : Index := Scalar.indexCast v226
  let c49 : Index := 49#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v624 : Index := Scalar.indexCast v327
  let c0_601 : Index := 0#32
  ![1, v623.toNat, 49, v624.toNat, 0]
def k0_off1885 (v1 : BitVec 32) (k0_t34 : Fin (k0_t34_loop v1).trips) (v228 : BitVec 32) (v257 : BitVec 32) (k0_t48 : Fin (k0_t48_loop v228 v257).trips) : Fin 5 → Nat :=
  let c1_603 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v629 : Index := Scalar.indexCast v226
  let c50 : Index := 50#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v630 : Index := Scalar.indexCast v327
  let c0_604 : Index := 0#32
  ![1, v629.toNat, 50, v630.toNat, 0]
def k0_off1886 (v1 : BitVec 32) (k0_t34 : Fin (k0_t34_loop v1).trips) (v228 : BitVec 32) (v257 : BitVec 32) (k0_t48 : Fin (k0_t48_loop v228 v257).trips) : Fin 5 → Nat :=
  let c1_606 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v635 : Index := Scalar.indexCast v226
  let c51 : Index := 51#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v636 : Index := Scalar.indexCast v327
  let c0_607 : Index := 0#32
  ![1, v635.toNat, 51, v636.toNat, 0]
def k0_off1887 (v1 : BitVec 32) (k0_t34 : Fin (k0_t34_loop v1).trips) (v228 : BitVec 32) (v257 : BitVec 32) (k0_t48 : Fin (k0_t48_loop v228 v257).trips) : Fin 5 → Nat :=
  let c1_609 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v641 : Index := Scalar.indexCast v226
  let c52 : Index := 52#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v642 : Index := Scalar.indexCast v327
  let c0_610 : Index := 0#32
  ![1, v641.toNat, 52, v642.toNat, 0]
def k0_off1888 (v1 : BitVec 32) (k0_t34 : Fin (k0_t34_loop v1).trips) (v228 : BitVec 32) (v257 : BitVec 32) (k0_t48 : Fin (k0_t48_loop v228 v257).trips) : Fin 5 → Nat :=
  let c1_612 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v647 : Index := Scalar.indexCast v226
  let c53 : Index := 53#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v648 : Index := Scalar.indexCast v327
  let c0_613 : Index := 0#32
  ![1, v647.toNat, 53, v648.toNat, 0]
def k0_off1889 (v1 : BitVec 32) (k0_t34 : Fin (k0_t34_loop v1).trips) (v228 : BitVec 32) (v257 : BitVec 32) (k0_t48 : Fin (k0_t48_loop v228 v257).trips) : Fin 5 → Nat :=
  let c1_615 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v653 : Index := Scalar.indexCast v226
  let c54 : Index := 54#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v654 : Index := Scalar.indexCast v327
  let c0_616 : Index := 0#32
  ![1, v653.toNat, 54, v654.toNat, 0]
def k0_off1890 (v1 : BitVec 32) (k0_t34 : Fin (k0_t34_loop v1).trips) (v228 : BitVec 32) (v257 : BitVec 32) (k0_t48 : Fin (k0_t48_loop v228 v257).trips) : Fin 5 → Nat :=
  let c1_618 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v659 : Index := Scalar.indexCast v226
  let c55 : Index := 55#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v660 : Index := Scalar.indexCast v327
  let c0_619 : Index := 0#32
  ![1, v659.toNat, 55, v660.toNat, 0]
def k0_off1891 (v1 : BitVec 32) (k0_t34 : Fin (k0_t34_loop v1).trips) (v228 : BitVec 32) (v257 : BitVec 32) (k0_t48 : Fin (k0_t48_loop v228 v257).trips) : Fin 5 → Nat :=
  let c1_621 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v665 : Index := Scalar.indexCast v226
  let c56 : Index := 56#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v666 : Index := Scalar.indexCast v327
  let c0_622 : Index := 0#32
  ![1, v665.toNat, 56, v666.toNat, 0]
def k0_off1892 (v1 : BitVec 32) (k0_t34 : Fin (k0_t34_loop v1).trips) (v228 : BitVec 32) (v257 : BitVec 32) (k0_t48 : Fin (k0_t48_loop v228 v257).trips) : Fin 5 → Nat :=
  let c1_624 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v671 : Index := Scalar.indexCast v226
  let c57 : Index := 57#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v672 : Index := Scalar.indexCast v327
  let c0_625 : Index := 0#32
  ![1, v671.toNat, 57, v672.toNat, 0]
def k0_off1893 (v1 : BitVec 32) (k0_t34 : Fin (k0_t34_loop v1).trips) (v228 : BitVec 32) (v257 : BitVec 32) (k0_t48 : Fin (k0_t48_loop v228 v257).trips) : Fin 5 → Nat :=
  let c1_627 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v677 : Index := Scalar.indexCast v226
  let c58 : Index := 58#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v678 : Index := Scalar.indexCast v327
  let c0_628 : Index := 0#32
  ![1, v677.toNat, 58, v678.toNat, 0]
def k0_off1894 (v1 : BitVec 32) (k0_t34 : Fin (k0_t34_loop v1).trips) (v228 : BitVec 32) (v257 : BitVec 32) (k0_t48 : Fin (k0_t48_loop v228 v257).trips) : Fin 5 → Nat :=
  let c1_630 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v683 : Index := Scalar.indexCast v226
  let c59 : Index := 59#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v684 : Index := Scalar.indexCast v327
  let c0_631 : Index := 0#32
  ![1, v683.toNat, 59, v684.toNat, 0]
def k0_off1895 (v1 : BitVec 32) (k0_t34 : Fin (k0_t34_loop v1).trips) (v228 : BitVec 32) (v257 : BitVec 32) (k0_t48 : Fin (k0_t48_loop v228 v257).trips) : Fin 5 → Nat :=
  let c1_633 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v689 : Index := Scalar.indexCast v226
  let c60 : Index := 60#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v690 : Index := Scalar.indexCast v327
  let c0_634 : Index := 0#32
  ![1, v689.toNat, 60, v690.toNat, 0]
def k0_off1896 (v1 : BitVec 32) (k0_t34 : Fin (k0_t34_loop v1).trips) (v228 : BitVec 32) (v257 : BitVec 32) (k0_t48 : Fin (k0_t48_loop v228 v257).trips) : Fin 5 → Nat :=
  let c1_636 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v695 : Index := Scalar.indexCast v226
  let c61 : Index := 61#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v696 : Index := Scalar.indexCast v327
  let c0_637 : Index := 0#32
  ![1, v695.toNat, 61, v696.toNat, 0]
def k0_off1897 (v1 : BitVec 32) (k0_t34 : Fin (k0_t34_loop v1).trips) (v228 : BitVec 32) (v257 : BitVec 32) (k0_t48 : Fin (k0_t48_loop v228 v257).trips) : Fin 5 → Nat :=
  let c1_639 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v701 : Index := Scalar.indexCast v226
  let c62 : Index := 62#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v702 : Index := Scalar.indexCast v327
  let c0_640 : Index := 0#32
  ![1, v701.toNat, 62, v702.toNat, 0]
def k0_off1898 (v1 : BitVec 32) (k0_t34 : Fin (k0_t34_loop v1).trips) (v228 : BitVec 32) (v257 : BitVec 32) (k0_t48 : Fin (k0_t48_loop v228 v257).trips) : Fin 5 → Nat :=
  let c1_642 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v707 : Index := Scalar.indexCast v226
  let c63 : Index := 63#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v708 : Index := Scalar.indexCast v327
  let c0_643 : Index := 0#32
  ![1, v707.toNat, 63, v708.toNat, 0]
def k0_off1899 (v1 : BitVec 32) (k0_t34 : Fin (k0_t34_loop v1).trips) (v228 : BitVec 32) (v257 : BitVec 32) (k0_t48 : Fin (k0_t48_loop v228 v257).trips) : Fin 5 → Nat :=
  let c1_645 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v713 : Index := Scalar.indexCast v226
  let c64 : Index := 64#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v714 : Index := Scalar.indexCast v327
  let c0_646 : Index := 0#32
  ![1, v713.toNat, 64, v714.toNat, 0]
def k0_off1900 (v1 : BitVec 32) (k0_t34 : Fin (k0_t34_loop v1).trips) (v228 : BitVec 32) (v257 : BitVec 32) (k0_t48 : Fin (k0_t48_loop v228 v257).trips) : Fin 5 → Nat :=
  let c1_648 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v719 : Index := Scalar.indexCast v226
  let c65 : Index := 65#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v720 : Index := Scalar.indexCast v327
  let c0_649 : Index := 0#32
  ![1, v719.toNat, 65, v720.toNat, 0]
def k0_off1901 (v1 : BitVec 32) (k0_t34 : Fin (k0_t34_loop v1).trips) (v228 : BitVec 32) (v257 : BitVec 32) (k0_t48 : Fin (k0_t48_loop v228 v257).trips) : Fin 5 → Nat :=
  let c1_651 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v725 : Index := Scalar.indexCast v226
  let c66 : Index := 66#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v726 : Index := Scalar.indexCast v327
  let c0_652 : Index := 0#32
  ![1, v725.toNat, 66, v726.toNat, 0]
def k0_off1902 (v1 : BitVec 32) (k0_t34 : Fin (k0_t34_loop v1).trips) (v228 : BitVec 32) (v257 : BitVec 32) (k0_t48 : Fin (k0_t48_loop v228 v257).trips) : Fin 5 → Nat :=
  let c1_654 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v731 : Index := Scalar.indexCast v226
  let c67 : Index := 67#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v732 : Index := Scalar.indexCast v327
  let c0_655 : Index := 0#32
  ![1, v731.toNat, 67, v732.toNat, 0]
def k0_off1903 (v1 : BitVec 32) (k0_t34 : Fin (k0_t34_loop v1).trips) (v228 : BitVec 32) (v257 : BitVec 32) (k0_t48 : Fin (k0_t48_loop v228 v257).trips) : Fin 5 → Nat :=
  let c1_657 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v737 : Index := Scalar.indexCast v226
  let c68 : Index := 68#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v738 : Index := Scalar.indexCast v327
  let c0_658 : Index := 0#32
  ![1, v737.toNat, 68, v738.toNat, 0]
def k0_off1904 (v1 : BitVec 32) (k0_t34 : Fin (k0_t34_loop v1).trips) (v228 : BitVec 32) (v257 : BitVec 32) (k0_t48 : Fin (k0_t48_loop v228 v257).trips) : Fin 5 → Nat :=
  let c1_660 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v743 : Index := Scalar.indexCast v226
  let c69 : Index := 69#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v744 : Index := Scalar.indexCast v327
  let c0_661 : Index := 0#32
  ![1, v743.toNat, 69, v744.toNat, 0]
def k0_off1905 (v1 : BitVec 32) (k0_t34 : Fin (k0_t34_loop v1).trips) (v228 : BitVec 32) (v257 : BitVec 32) (k0_t48 : Fin (k0_t48_loop v228 v257).trips) : Fin 5 → Nat :=
  let c1_663 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v749 : Index := Scalar.indexCast v226
  let c70 : Index := 70#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v750 : Index := Scalar.indexCast v327
  let c0_664 : Index := 0#32
  ![1, v749.toNat, 70, v750.toNat, 0]
def k0_off1906 (v1 : BitVec 32) (k0_t34 : Fin (k0_t34_loop v1).trips) (v228 : BitVec 32) (v257 : BitVec 32) (k0_t48 : Fin (k0_t48_loop v228 v257).trips) : Fin 5 → Nat :=
  let c1_666 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v755 : Index := Scalar.indexCast v226
  let c71 : Index := 71#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v756 : Index := Scalar.indexCast v327
  let c0_667 : Index := 0#32
  ![1, v755.toNat, 71, v756.toNat, 0]
def k0_off1907 (v1 : BitVec 32) (k0_t34 : Fin (k0_t34_loop v1).trips) (v228 : BitVec 32) (v257 : BitVec 32) (k0_t48 : Fin (k0_t48_loop v228 v257).trips) : Fin 5 → Nat :=
  let c1_669 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v761 : Index := Scalar.indexCast v226
  let c72 : Index := 72#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v762 : Index := Scalar.indexCast v327
  let c0_670 : Index := 0#32
  ![1, v761.toNat, 72, v762.toNat, 0]
def k0_off1908 (v1 : BitVec 32) (k0_t34 : Fin (k0_t34_loop v1).trips) (v228 : BitVec 32) (v257 : BitVec 32) (k0_t48 : Fin (k0_t48_loop v228 v257).trips) : Fin 5 → Nat :=
  let c1_672 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v767 : Index := Scalar.indexCast v226
  let c73 : Index := 73#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v768 : Index := Scalar.indexCast v327
  let c0_673 : Index := 0#32
  ![1, v767.toNat, 73, v768.toNat, 0]
def k0_off1909 (v1 : BitVec 32) (k0_t34 : Fin (k0_t34_loop v1).trips) (v228 : BitVec 32) (v257 : BitVec 32) (k0_t48 : Fin (k0_t48_loop v228 v257).trips) : Fin 5 → Nat :=
  let c1_675 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v773 : Index := Scalar.indexCast v226
  let c74 : Index := 74#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v774 : Index := Scalar.indexCast v327
  let c0_676 : Index := 0#32
  ![1, v773.toNat, 74, v774.toNat, 0]
def k0_off1910 (v1 : BitVec 32) (k0_t34 : Fin (k0_t34_loop v1).trips) (v228 : BitVec 32) (v257 : BitVec 32) (k0_t48 : Fin (k0_t48_loop v228 v257).trips) : Fin 5 → Nat :=
  let c1_678 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v779 : Index := Scalar.indexCast v226
  let c75 : Index := 75#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v780 : Index := Scalar.indexCast v327
  let c0_679 : Index := 0#32
  ![1, v779.toNat, 75, v780.toNat, 0]
def k0_off1911 (v1 : BitVec 32) (k0_t34 : Fin (k0_t34_loop v1).trips) (v228 : BitVec 32) (v257 : BitVec 32) (k0_t48 : Fin (k0_t48_loop v228 v257).trips) : Fin 5 → Nat :=
  let c1_681 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v785 : Index := Scalar.indexCast v226
  let c76 : Index := 76#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v786 : Index := Scalar.indexCast v327
  let c0_682 : Index := 0#32
  ![1, v785.toNat, 76, v786.toNat, 0]
def k0_off1912 (v1 : BitVec 32) (k0_t34 : Fin (k0_t34_loop v1).trips) (v228 : BitVec 32) (v257 : BitVec 32) (k0_t48 : Fin (k0_t48_loop v228 v257).trips) : Fin 5 → Nat :=
  let c1_684 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v791 : Index := Scalar.indexCast v226
  let c77 : Index := 77#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v792 : Index := Scalar.indexCast v327
  let c0_685 : Index := 0#32
  ![1, v791.toNat, 77, v792.toNat, 0]
def k0_off1913 (v1 : BitVec 32) (k0_t34 : Fin (k0_t34_loop v1).trips) (v228 : BitVec 32) (v257 : BitVec 32) (k0_t48 : Fin (k0_t48_loop v228 v257).trips) : Fin 5 → Nat :=
  let c1_687 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v797 : Index := Scalar.indexCast v226
  let c78 : Index := 78#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v798 : Index := Scalar.indexCast v327
  let c0_688 : Index := 0#32
  ![1, v797.toNat, 78, v798.toNat, 0]
def k0_off1914 (v1 : BitVec 32) (k0_t34 : Fin (k0_t34_loop v1).trips) (v228 : BitVec 32) (v257 : BitVec 32) (k0_t48 : Fin (k0_t48_loop v228 v257).trips) : Fin 5 → Nat :=
  let c1_690 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v803 : Index := Scalar.indexCast v226
  let c79 : Index := 79#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v804 : Index := Scalar.indexCast v327
  let c0_691 : Index := 0#32
  ![1, v803.toNat, 79, v804.toNat, 0]
def k0_off1915 (v1 : BitVec 32) (k0_t34 : Fin (k0_t34_loop v1).trips) (v228 : BitVec 32) (v257 : BitVec 32) (k0_t48 : Fin (k0_t48_loop v228 v257).trips) : Fin 5 → Nat :=
  let c1_693 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v809 : Index := Scalar.indexCast v226
  let c80 : Index := 80#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v810 : Index := Scalar.indexCast v327
  let c0_694 : Index := 0#32
  ![1, v809.toNat, 80, v810.toNat, 0]
def k0_off1916 (v1 : BitVec 32) (k0_t34 : Fin (k0_t34_loop v1).trips) (v228 : BitVec 32) (v257 : BitVec 32) (k0_t48 : Fin (k0_t48_loop v228 v257).trips) : Fin 5 → Nat :=
  let c1_696 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v815 : Index := Scalar.indexCast v226
  let c81 : Index := 81#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v816 : Index := Scalar.indexCast v327
  let c0_697 : Index := 0#32
  ![1, v815.toNat, 81, v816.toNat, 0]
def k0_off1917 (v1 : BitVec 32) (k0_t34 : Fin (k0_t34_loop v1).trips) (v228 : BitVec 32) (v257 : BitVec 32) (k0_t48 : Fin (k0_t48_loop v228 v257).trips) : Fin 5 → Nat :=
  let c1_699 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v821 : Index := Scalar.indexCast v226
  let c82 : Index := 82#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v822 : Index := Scalar.indexCast v327
  let c0_700 : Index := 0#32
  ![1, v821.toNat, 82, v822.toNat, 0]
def k0_off1918 (v1 : BitVec 32) (k0_t34 : Fin (k0_t34_loop v1).trips) (v228 : BitVec 32) (v257 : BitVec 32) (k0_t48 : Fin (k0_t48_loop v228 v257).trips) : Fin 5 → Nat :=
  let c1_702 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v827 : Index := Scalar.indexCast v226
  let c83 : Index := 83#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v828 : Index := Scalar.indexCast v327
  let c0_703 : Index := 0#32
  ![1, v827.toNat, 83, v828.toNat, 0]
def k0_off1919 (v1 : BitVec 32) (k0_t34 : Fin (k0_t34_loop v1).trips) (v228 : BitVec 32) (v257 : BitVec 32) (k0_t48 : Fin (k0_t48_loop v228 v257).trips) : Fin 5 → Nat :=
  let c1_705 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v833 : Index := Scalar.indexCast v226
  let c84 : Index := 84#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v834 : Index := Scalar.indexCast v327
  let c0_706 : Index := 0#32
  ![1, v833.toNat, 84, v834.toNat, 0]
def k0_off1920 (v1 : BitVec 32) (k0_t34 : Fin (k0_t34_loop v1).trips) (v228 : BitVec 32) (v257 : BitVec 32) (k0_t48 : Fin (k0_t48_loop v228 v257).trips) : Fin 5 → Nat :=
  let c1_708 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v839 : Index := Scalar.indexCast v226
  let c85 : Index := 85#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v840 : Index := Scalar.indexCast v327
  let c0_709 : Index := 0#32
  ![1, v839.toNat, 85, v840.toNat, 0]
def k0_off1921 (v1 : BitVec 32) (k0_t34 : Fin (k0_t34_loop v1).trips) (v228 : BitVec 32) (v257 : BitVec 32) (k0_t48 : Fin (k0_t48_loop v228 v257).trips) : Fin 5 → Nat :=
  let c1_711 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v845 : Index := Scalar.indexCast v226
  let c86 : Index := 86#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v846 : Index := Scalar.indexCast v327
  let c0_712 : Index := 0#32
  ![1, v845.toNat, 86, v846.toNat, 0]
def k0_off1922 (v1 : BitVec 32) (k0_t34 : Fin (k0_t34_loop v1).trips) (v228 : BitVec 32) (v257 : BitVec 32) (k0_t48 : Fin (k0_t48_loop v228 v257).trips) : Fin 5 → Nat :=
  let c1_714 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v851 : Index := Scalar.indexCast v226
  let c87 : Index := 87#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v852 : Index := Scalar.indexCast v327
  let c0_715 : Index := 0#32
  ![1, v851.toNat, 87, v852.toNat, 0]
def k0_off1923 (v1 : BitVec 32) (k0_t34 : Fin (k0_t34_loop v1).trips) (v228 : BitVec 32) (v257 : BitVec 32) (k0_t48 : Fin (k0_t48_loop v228 v257).trips) : Fin 5 → Nat :=
  let c1_717 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v857 : Index := Scalar.indexCast v226
  let c88 : Index := 88#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v858 : Index := Scalar.indexCast v327
  let c0_718 : Index := 0#32
  ![1, v857.toNat, 88, v858.toNat, 0]
def k0_off1924 (v1 : BitVec 32) (k0_t34 : Fin (k0_t34_loop v1).trips) (v228 : BitVec 32) (v257 : BitVec 32) (k0_t48 : Fin (k0_t48_loop v228 v257).trips) : Fin 5 → Nat :=
  let c1_720 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v863 : Index := Scalar.indexCast v226
  let c89 : Index := 89#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v864 : Index := Scalar.indexCast v327
  let c0_721 : Index := 0#32
  ![1, v863.toNat, 89, v864.toNat, 0]
def k0_off1925 (v1 : BitVec 32) (k0_t34 : Fin (k0_t34_loop v1).trips) (v228 : BitVec 32) (v257 : BitVec 32) (k0_t48 : Fin (k0_t48_loop v228 v257).trips) : Fin 5 → Nat :=
  let c1_723 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v869 : Index := Scalar.indexCast v226
  let c90 : Index := 90#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v870 : Index := Scalar.indexCast v327
  let c0_724 : Index := 0#32
  ![1, v869.toNat, 90, v870.toNat, 0]
def k0_off1926 (v1 : BitVec 32) (k0_t34 : Fin (k0_t34_loop v1).trips) (v228 : BitVec 32) (v257 : BitVec 32) (k0_t48 : Fin (k0_t48_loop v228 v257).trips) : Fin 5 → Nat :=
  let c1_726 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v875 : Index := Scalar.indexCast v226
  let c91 : Index := 91#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v876 : Index := Scalar.indexCast v327
  let c0_727 : Index := 0#32
  ![1, v875.toNat, 91, v876.toNat, 0]
def k0_off1927 (v1 : BitVec 32) (k0_t34 : Fin (k0_t34_loop v1).trips) (v228 : BitVec 32) (v257 : BitVec 32) (k0_t48 : Fin (k0_t48_loop v228 v257).trips) : Fin 5 → Nat :=
  let c1_729 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v881 : Index := Scalar.indexCast v226
  let c92 : Index := 92#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v882 : Index := Scalar.indexCast v327
  let c0_730 : Index := 0#32
  ![1, v881.toNat, 92, v882.toNat, 0]
def k0_off1928 (v1 : BitVec 32) (k0_t34 : Fin (k0_t34_loop v1).trips) (v228 : BitVec 32) (v257 : BitVec 32) (k0_t48 : Fin (k0_t48_loop v228 v257).trips) : Fin 5 → Nat :=
  let c1_732 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v887 : Index := Scalar.indexCast v226
  let c93 : Index := 93#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v888 : Index := Scalar.indexCast v327
  let c0_733 : Index := 0#32
  ![1, v887.toNat, 93, v888.toNat, 0]
def k0_off1929 (v1 : BitVec 32) (k0_t34 : Fin (k0_t34_loop v1).trips) (v228 : BitVec 32) (v257 : BitVec 32) (k0_t48 : Fin (k0_t48_loop v228 v257).trips) : Fin 5 → Nat :=
  let c1_735 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v893 : Index := Scalar.indexCast v226
  let c94 : Index := 94#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v894 : Index := Scalar.indexCast v327
  let c0_736 : Index := 0#32
  ![1, v893.toNat, 94, v894.toNat, 0]
def k0_off1930 (v1 : BitVec 32) (k0_t34 : Fin (k0_t34_loop v1).trips) (v228 : BitVec 32) (v257 : BitVec 32) (k0_t48 : Fin (k0_t48_loop v228 v257).trips) : Fin 5 → Nat :=
  let c1_738 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v899 : Index := Scalar.indexCast v226
  let c95 : Index := 95#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v900 : Index := Scalar.indexCast v327
  let c0_739 : Index := 0#32
  ![1, v899.toNat, 95, v900.toNat, 0]
def k0_off1931 (v1 : BitVec 32) (k0_t34 : Fin (k0_t34_loop v1).trips) (v228 : BitVec 32) (v257 : BitVec 32) (k0_t48 : Fin (k0_t48_loop v228 v257).trips) : Fin 5 → Nat :=
  let c1_741 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v905 : Index := Scalar.indexCast v226
  let c96 : Index := 96#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v906 : Index := Scalar.indexCast v327
  let c0_742 : Index := 0#32
  ![1, v905.toNat, 96, v906.toNat, 0]
def k0_off1932 (v1 : BitVec 32) (k0_t34 : Fin (k0_t34_loop v1).trips) (v228 : BitVec 32) (v257 : BitVec 32) (k0_t48 : Fin (k0_t48_loop v228 v257).trips) : Fin 5 → Nat :=
  let c1_744 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v911 : Index := Scalar.indexCast v226
  let c97 : Index := 97#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v912 : Index := Scalar.indexCast v327
  let c0_745 : Index := 0#32
  ![1, v911.toNat, 97, v912.toNat, 0]
def k0_off1933 (v1 : BitVec 32) (k0_t34 : Fin (k0_t34_loop v1).trips) (v228 : BitVec 32) (v257 : BitVec 32) (k0_t48 : Fin (k0_t48_loop v228 v257).trips) : Fin 5 → Nat :=
  let c1_747 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v917 : Index := Scalar.indexCast v226
  let c98 : Index := 98#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v918 : Index := Scalar.indexCast v327
  let c0_748 : Index := 0#32
  ![1, v917.toNat, 98, v918.toNat, 0]
def k0_off1934 (v1 : BitVec 32) (k0_t34 : Fin (k0_t34_loop v1).trips) (v228 : BitVec 32) (v257 : BitVec 32) (k0_t48 : Fin (k0_t48_loop v228 v257).trips) : Fin 5 → Nat :=
  let c1_750 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v923 : Index := Scalar.indexCast v226
  let c99 : Index := 99#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v924 : Index := Scalar.indexCast v327
  let c0_751 : Index := 0#32
  ![1, v923.toNat, 99, v924.toNat, 0]
def k0_off1935 (v1 : BitVec 32) (k0_t34 : Fin (k0_t34_loop v1).trips) (v228 : BitVec 32) (v257 : BitVec 32) (k0_t48 : Fin (k0_t48_loop v228 v257).trips) : Fin 5 → Nat :=
  let c1_753 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v929 : Index := Scalar.indexCast v226
  let c100 : Index := 100#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v930 : Index := Scalar.indexCast v327
  let c0_754 : Index := 0#32
  ![1, v929.toNat, 100, v930.toNat, 0]
def k0_off1936 (v1 : BitVec 32) (k0_t34 : Fin (k0_t34_loop v1).trips) (v228 : BitVec 32) (v257 : BitVec 32) (k0_t48 : Fin (k0_t48_loop v228 v257).trips) : Fin 5 → Nat :=
  let c1_756 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v935 : Index := Scalar.indexCast v226
  let c101 : Index := 101#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v936 : Index := Scalar.indexCast v327
  let c0_757 : Index := 0#32
  ![1, v935.toNat, 101, v936.toNat, 0]
def k0_off1937 (v1 : BitVec 32) (k0_t34 : Fin (k0_t34_loop v1).trips) (v228 : BitVec 32) (v257 : BitVec 32) (k0_t48 : Fin (k0_t48_loop v228 v257).trips) : Fin 5 → Nat :=
  let c1_759 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v941 : Index := Scalar.indexCast v226
  let c102 : Index := 102#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v942 : Index := Scalar.indexCast v327
  let c0_760 : Index := 0#32
  ![1, v941.toNat, 102, v942.toNat, 0]
def k0_off1938 (v1 : BitVec 32) (k0_t34 : Fin (k0_t34_loop v1).trips) (v228 : BitVec 32) (v257 : BitVec 32) (k0_t48 : Fin (k0_t48_loop v228 v257).trips) : Fin 5 → Nat :=
  let c1_762 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v947 : Index := Scalar.indexCast v226
  let c103 : Index := 103#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v948 : Index := Scalar.indexCast v327
  let c0_763 : Index := 0#32
  ![1, v947.toNat, 103, v948.toNat, 0]
def k0_off1939 (v1 : BitVec 32) (k0_t34 : Fin (k0_t34_loop v1).trips) (v228 : BitVec 32) (v257 : BitVec 32) (k0_t48 : Fin (k0_t48_loop v228 v257).trips) : Fin 5 → Nat :=
  let c1_765 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v953 : Index := Scalar.indexCast v226
  let c104 : Index := 104#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v954 : Index := Scalar.indexCast v327
  let c0_766 : Index := 0#32
  ![1, v953.toNat, 104, v954.toNat, 0]
def k0_off1940 (v1 : BitVec 32) (k0_t34 : Fin (k0_t34_loop v1).trips) (v228 : BitVec 32) (v257 : BitVec 32) (k0_t48 : Fin (k0_t48_loop v228 v257).trips) : Fin 5 → Nat :=
  let c1_768 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v959 : Index := Scalar.indexCast v226
  let c105 : Index := 105#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v960 : Index := Scalar.indexCast v327
  let c0_769 : Index := 0#32
  ![1, v959.toNat, 105, v960.toNat, 0]
def k0_off1941 (v1 : BitVec 32) (k0_t34 : Fin (k0_t34_loop v1).trips) (v228 : BitVec 32) (v257 : BitVec 32) (k0_t48 : Fin (k0_t48_loop v228 v257).trips) : Fin 5 → Nat :=
  let c1_771 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v965 : Index := Scalar.indexCast v226
  let c106 : Index := 106#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v966 : Index := Scalar.indexCast v327
  let c0_772 : Index := 0#32
  ![1, v965.toNat, 106, v966.toNat, 0]
def k0_off1942 (v1 : BitVec 32) (k0_t34 : Fin (k0_t34_loop v1).trips) (v228 : BitVec 32) (v257 : BitVec 32) (k0_t48 : Fin (k0_t48_loop v228 v257).trips) : Fin 5 → Nat :=
  let c1_774 : Index := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let v971 : Index := Scalar.indexCast v226
  let c107 : Index := 107#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t48
  let c16_i32_452 : BitVec 32 := 16#32
  let v326 : BitVec 32 := Scalar.muli arg19 c16_i32_452
  let v327 : BitVec 32 := v326
  let v972 : Index := Scalar.indexCast v327
  let c0_775 : Index := 0#32
  ![1, v971.toNat, 107, v972.toNat, 0]

variable {F : FTy → Type} [BitOps F]

def k0_chk21_0 (v1 : BitVec 32) (k0_t34 : Fin (k0_t34_loop v1).trips) (v228 : BitVec 32) (v257 : BitVec 32) : Prop :=
  ((k0_t35_loop v228 v257).OK) ∧
  (∀ k0_t35 : Fin (k0_t35_loop v228 v257).trips, ∀ a, (k0_off398 v1 k0_t34) a + S1x1.size a ≤ S2x2.size a) ∧
  (∀ k0_t35 : Fin (k0_t35_loop v228 v257).trips, ∀ a, (k0_off399 v1 k0_t34 v228 v257 k0_t35) a + S1x1x1x1728x128.size a ≤ S2x2x8x1728x128.size a) ∧
  (∀ k0_t35 : Fin (k0_t35_loop v228 v257).trips, ∀ (hinb : ∀ a, (k0_off399 v1 k0_t34 v228 v257 k0_t35) a + S1x1x1x1728x128.size a ≤ S2x2x8x1728x128.size a), (Rect.unit (s := S2x2x8x1728x128) (k0_off399 v1 k0_t34 v228 v257 k0_t35) S1x1x1x1728x128.size hinb).WholeWords (EltTy.packing .fp8e4m3)) ∧
  ((k0_t36_loop v228 v257).OK) ∧
  (∀ k0_t36 : Fin (k0_t36_loop v228 v257).trips, ∀ a, (k0_off400 v1 k0_t34) a + S1x1.size a ≤ S2x2.size a) ∧
  (∀ k0_t36 : Fin (k0_t36_loop v228 v257).trips, ∀ a, (k0_off401 v1 k0_t34 v228 v257 k0_t36) a + S1x1x1x1728x128.size a ≤ S2x2x8x1728x128.size a) ∧
  (∀ k0_t36 : Fin (k0_t36_loop v228 v257).trips, ∀ (hinb : ∀ a, (k0_off401 v1 k0_t34 v228 v257 k0_t36) a + S1x1x1x1728x128.size a ≤ S2x2x8x1728x128.size a), (Rect.unit (s := S2x2x8x1728x128) (k0_off401 v1 k0_t34 v228 v257 k0_t36) S1x1x1x1728x128.size hinb).WholeWords (EltTy.packing .fp8e4m3)) ∧
  ((k0_t37_loop v228 v257).OK) ∧
  (∀ k0_t37 : Fin (k0_t37_loop v228 v257).trips, ∀ a, (k0_off404 v228 v257 k0_t37) a + S1x1.size a ≤ S8x128.size a) ∧
  (∀ k0_t37 : Fin (k0_t37_loop v228 v257).trips, ∀ a, (k0_off405 v228) a + S1.size a ≤ S8.size a) ∧
  (∀ k0_t37 : Fin (k0_t37_loop v228 v257).trips, 16 ∣ (k0_mult6 v228 v257 k0_t37).toNat) ∧
  (∀ k0_t37 : Fin (k0_t37_loop v228 v257).trips, ∀ a, (k0_off406 v1 k0_t34 v228 v257 k0_t37) a + S1x1x1x32x128.size a ≤ S2x2x8x1728x128.size a) ∧
  (∀ k0_t37 : Fin (k0_t37_loop v228 v257).trips, ∀ a, (k0_off408 v1 k0_t34 v228 v257 k0_t37) a + S1x1x1x16x128.size a ≤ S2x2x108x128x128.size a) ∧
  (∀ k0_t37 : Fin (k0_t37_loop v228 v257).trips, ∀ (hinb : ∀ a, (k0_off408 v1 k0_t34 v228 v257 k0_t37) a + S1x1x1x16x128.size a ≤ S2x2x108x128x128.size a), (Rect.unit (s := S2x2x108x128x128) (k0_off408 v1 k0_t34 v228 v257 k0_t37) S1x1x1x16x128.size hinb).PackedRows (EltTy.packing .bf16)) ∧
  (∀ k0_t37 : Fin (k0_t37_loop v228 v257).trips, ∀ a, (k0_off410 v1 k0_t34 v228 v257 k0_t37) a + S1x1x1x16x128.size a ≤ S2x2x108x128x128.size a) ∧
  (∀ k0_t37 : Fin (k0_t37_loop v228 v257).trips, ∀ (hinb : ∀ a, (k0_off410 v1 k0_t34 v228 v257 k0_t37) a + S1x1x1x16x128.size a ≤ S2x2x108x128x128.size a), (Rect.unit (s := S2x2x108x128x128) (k0_off410 v1 k0_t34 v228 v257 k0_t37) S1x1x1x16x128.size hinb).PackedRows (EltTy.packing .bf16)) ∧
  (∀ k0_t37 : Fin (k0_t37_loop v228 v257).trips, ∀ a, (k0_off411 v1 k0_t34 v228 v257 k0_t37) a + S1x1x1x32x128.size a ≤ S2x2x8x1728x128.size a) ∧
  (∀ k0_t37 : Fin (k0_t37_loop v228 v257).trips, ∀ a, (k0_off413 v1 k0_t34 v228 v257 k0_t37) a + S1x1x1x16x128.size a ≤ S2x2x108x128x128.size a) ∧
  (∀ k0_t37 : Fin (k0_t37_loop v228 v257).trips, ∀ (hinb : ∀ a, (k0_off413 v1 k0_t34 v228 v257 k0_t37) a + S1x1x1x16x128.size a ≤ S2x2x108x128x128.size a), (Rect.unit (s := S2x2x108x128x128) (k0_off413 v1 k0_t34 v228 v257 k0_t37) S1x1x1x16x128.size hinb).PackedRows (EltTy.packing .bf16)) ∧
  (∀ k0_t37 : Fin (k0_t37_loop v228 v257).trips, ∀ a, (k0_off415 v1 k0_t34 v228 v257 k0_t37) a + S1x1x1x16x128.size a ≤ S2x2x108x128x128.size a) ∧
  (∀ k0_t37 : Fin (k0_t37_loop v228 v257).trips, ∀ (hinb : ∀ a, (k0_off415 v1 k0_t34 v228 v257 k0_t37) a + S1x1x1x16x128.size a ≤ S2x2x108x128x128.size a), (Rect.unit (s := S2x2x108x128x128) (k0_off415 v1 k0_t34 v228 v257 k0_t37) S1x1x1x16x128.size hinb).PackedRows (EltTy.packing .bf16)) ∧
  (∀ k0_t37 : Fin (k0_t37_loop v228 v257).trips, ∀ a, (k0_off416 v1 k0_t34 v228 v257 k0_t37) a + S1x1x1x32x128.size a ≤ S2x2x8x1728x128.size a) ∧
  (∀ k0_t37 : Fin (k0_t37_loop v228 v257).trips, ∀ a, (k0_off418 v1 k0_t34 v228 v257 k0_t37) a + S1x1x1x16x128.size a ≤ S2x2x108x128x128.size a) ∧
  (∀ k0_t37 : Fin (k0_t37_loop v228 v257).trips, ∀ (hinb : ∀ a, (k0_off418 v1 k0_t34 v228 v257 k0_t37) a + S1x1x1x16x128.size a ≤ S2x2x108x128x128.size a), (Rect.unit (s := S2x2x108x128x128) (k0_off418 v1 k0_t34 v228 v257 k0_t37) S1x1x1x16x128.size hinb).PackedRows (EltTy.packing .bf16)) ∧
  (∀ k0_t37 : Fin (k0_t37_loop v228 v257).trips, ∀ a, (k0_off420 v1 k0_t34 v228 v257 k0_t37) a + S1x1x1x16x128.size a ≤ S2x2x108x128x128.size a) ∧
  (∀ k0_t37 : Fin (k0_t37_loop v228 v257).trips, ∀ (hinb : ∀ a, (k0_off420 v1 k0_t34 v228 v257 k0_t37) a + S1x1x1x16x128.size a ≤ S2x2x108x128x128.size a), (Rect.unit (s := S2x2x108x128x128) (k0_off420 v1 k0_t34 v228 v257 k0_t37) S1x1x1x16x128.size hinb).PackedRows (EltTy.packing .bf16)) ∧
  (∀ k0_t37 : Fin (k0_t37_loop v228 v257).trips, ∀ a, (k0_off421 v1 k0_t34 v228 v257 k0_t37) a + S1x1x1x32x128.size a ≤ S2x2x8x1728x128.size a) ∧
  (∀ k0_t37 : Fin (k0_t37_loop v228 v257).trips, ∀ a, (k0_off423 v1 k0_t34 v228 v257 k0_t37) a + S1x1x1x16x128.size a ≤ S2x2x108x128x128.size a) ∧
  (∀ k0_t37 : Fin (k0_t37_loop v228 v257).trips, ∀ (hinb : ∀ a, (k0_off423 v1 k0_t34 v228 v257 k0_t37) a + S1x1x1x16x128.size a ≤ S2x2x108x128x128.size a), (Rect.unit (s := S2x2x108x128x128) (k0_off423 v1 k0_t34 v228 v257 k0_t37) S1x1x1x16x128.size hinb).PackedRows (EltTy.packing .bf16)) ∧
  (∀ k0_t37 : Fin (k0_t37_loop v228 v257).trips, ∀ a, (k0_off425 v1 k0_t34 v228 v257 k0_t37) a + S1x1x1x16x128.size a ≤ S2x2x108x128x128.size a) ∧
  (∀ k0_t37 : Fin (k0_t37_loop v228 v257).trips, ∀ (hinb : ∀ a, (k0_off425 v1 k0_t34 v228 v257 k0_t37) a + S1x1x1x16x128.size a ≤ S2x2x108x128x128.size a), (Rect.unit (s := S2x2x108x128x128) (k0_off425 v1 k0_t34 v228 v257 k0_t37) S1x1x1x16x128.size hinb).PackedRows (EltTy.packing .bf16))
def k0_chk21_1 (v1 : BitVec 32) (k0_t34 : Fin (k0_t34_loop v1).trips) (v228 : BitVec 32) (v257 : BitVec 32) : Prop :=
  (∀ k0_t37 : Fin (k0_t37_loop v228 v257).trips, ∀ a, (k0_off426 v1 k0_t34 v228 v257 k0_t37) a + S1x1x1x32x128.size a ≤ S2x2x8x1728x128.size a) ∧
  (∀ k0_t37 : Fin (k0_t37_loop v228 v257).trips, ∀ a, (k0_off428 v1 k0_t34 v228 v257 k0_t37) a + S1x1x1x16x128.size a ≤ S2x2x108x128x128.size a) ∧
  (∀ k0_t37 : Fin (k0_t37_loop v228 v257).trips, ∀ (hinb : ∀ a, (k0_off428 v1 k0_t34 v228 v257 k0_t37) a + S1x1x1x16x128.size a ≤ S2x2x108x128x128.size a), (Rect.unit (s := S2x2x108x128x128) (k0_off428 v1 k0_t34 v228 v257 k0_t37) S1x1x1x16x128.size hinb).PackedRows (EltTy.packing .bf16)) ∧
  (∀ k0_t37 : Fin (k0_t37_loop v228 v257).trips, ∀ a, (k0_off430 v1 k0_t34 v228 v257 k0_t37) a + S1x1x1x16x128.size a ≤ S2x2x108x128x128.size a) ∧
  (∀ k0_t37 : Fin (k0_t37_loop v228 v257).trips, ∀ (hinb : ∀ a, (k0_off430 v1 k0_t34 v228 v257 k0_t37) a + S1x1x1x16x128.size a ≤ S2x2x108x128x128.size a), (Rect.unit (s := S2x2x108x128x128) (k0_off430 v1 k0_t34 v228 v257 k0_t37) S1x1x1x16x128.size hinb).PackedRows (EltTy.packing .bf16)) ∧
  (∀ k0_t37 : Fin (k0_t37_loop v228 v257).trips, ∀ a, (k0_off431 v1 k0_t34 v228 v257 k0_t37) a + S1x1x1x32x128.size a ≤ S2x2x8x1728x128.size a) ∧
  (∀ k0_t37 : Fin (k0_t37_loop v228 v257).trips, ∀ a, (k0_off433 v1 k0_t34 v228 v257 k0_t37) a + S1x1x1x16x128.size a ≤ S2x2x108x128x128.size a) ∧
  (∀ k0_t37 : Fin (k0_t37_loop v228 v257).trips, ∀ (hinb : ∀ a, (k0_off433 v1 k0_t34 v228 v257 k0_t37) a + S1x1x1x16x128.size a ≤ S2x2x108x128x128.size a), (Rect.unit (s := S2x2x108x128x128) (k0_off433 v1 k0_t34 v228 v257 k0_t37) S1x1x1x16x128.size hinb).PackedRows (EltTy.packing .bf16)) ∧
  (∀ k0_t37 : Fin (k0_t37_loop v228 v257).trips, ∀ a, (k0_off435 v1 k0_t34 v228 v257 k0_t37) a + S1x1x1x16x128.size a ≤ S2x2x108x128x128.size a) ∧
  (∀ k0_t37 : Fin (k0_t37_loop v228 v257).trips, ∀ (hinb : ∀ a, (k0_off435 v1 k0_t34 v228 v257 k0_t37) a + S1x1x1x16x128.size a ≤ S2x2x108x128x128.size a), (Rect.unit (s := S2x2x108x128x128) (k0_off435 v1 k0_t34 v228 v257 k0_t37) S1x1x1x16x128.size hinb).PackedRows (EltTy.packing .bf16)) ∧
  (∀ k0_t37 : Fin (k0_t37_loop v228 v257).trips, ∀ a, (k0_off436 v1 k0_t34 v228 v257 k0_t37) a + S1x1x1x32x128.size a ≤ S2x2x8x1728x128.size a) ∧
  (∀ k0_t37 : Fin (k0_t37_loop v228 v257).trips, ∀ a, (k0_off438 v1 k0_t34 v228 v257 k0_t37) a + S1x1x1x16x128.size a ≤ S2x2x108x128x128.size a) ∧
  (∀ k0_t37 : Fin (k0_t37_loop v228 v257).trips, ∀ (hinb : ∀ a, (k0_off438 v1 k0_t34 v228 v257 k0_t37) a + S1x1x1x16x128.size a ≤ S2x2x108x128x128.size a), (Rect.unit (s := S2x2x108x128x128) (k0_off438 v1 k0_t34 v228 v257 k0_t37) S1x1x1x16x128.size hinb).PackedRows (EltTy.packing .bf16)) ∧
  (∀ k0_t37 : Fin (k0_t37_loop v228 v257).trips, ∀ a, (k0_off440 v1 k0_t34 v228 v257 k0_t37) a + S1x1x1x16x128.size a ≤ S2x2x108x128x128.size a) ∧
  (∀ k0_t37 : Fin (k0_t37_loop v228 v257).trips, ∀ (hinb : ∀ a, (k0_off440 v1 k0_t34 v228 v257 k0_t37) a + S1x1x1x16x128.size a ≤ S2x2x108x128x128.size a), (Rect.unit (s := S2x2x108x128x128) (k0_off440 v1 k0_t34 v228 v257 k0_t37) S1x1x1x16x128.size hinb).PackedRows (EltTy.packing .bf16)) ∧
  (∀ k0_t37 : Fin (k0_t37_loop v228 v257).trips, ∀ a, (k0_off441 v1 k0_t34 v228 v257 k0_t37) a + S1x1x1x32x128.size a ≤ S2x2x8x1728x128.size a) ∧
  (∀ k0_t37 : Fin (k0_t37_loop v228 v257).trips, ∀ a, (k0_off443 v1 k0_t34 v228 v257 k0_t37) a + S1x1x1x16x128.size a ≤ S2x2x108x128x128.size a) ∧
  (∀ k0_t37 : Fin (k0_t37_loop v228 v257).trips, ∀ (hinb : ∀ a, (k0_off443 v1 k0_t34 v228 v257 k0_t37) a + S1x1x1x16x128.size a ≤ S2x2x108x128x128.size a), (Rect.unit (s := S2x2x108x128x128) (k0_off443 v1 k0_t34 v228 v257 k0_t37) S1x1x1x16x128.size hinb).PackedRows (EltTy.packing .bf16)) ∧
  (∀ k0_t37 : Fin (k0_t37_loop v228 v257).trips, ∀ a, (k0_off445 v1 k0_t34 v228 v257 k0_t37) a + S1x1x1x16x128.size a ≤ S2x2x108x128x128.size a) ∧
  (∀ k0_t37 : Fin (k0_t37_loop v228 v257).trips, ∀ (hinb : ∀ a, (k0_off445 v1 k0_t34 v228 v257 k0_t37) a + S1x1x1x16x128.size a ≤ S2x2x108x128x128.size a), (Rect.unit (s := S2x2x108x128x128) (k0_off445 v1 k0_t34 v228 v257 k0_t37) S1x1x1x16x128.size hinb).PackedRows (EltTy.packing .bf16)) ∧
  (∀ k0_t37 : Fin (k0_t37_loop v228 v257).trips, ∀ a, (k0_off446 v1 k0_t34 v228 v257 k0_t37) a + S1x1x1x32x128.size a ≤ S2x2x8x1728x128.size a) ∧
  (∀ k0_t37 : Fin (k0_t37_loop v228 v257).trips, ∀ a, (k0_off448 v1 k0_t34 v228 v257 k0_t37) a + S1x1x1x16x128.size a ≤ S2x2x108x128x128.size a) ∧
  (∀ k0_t37 : Fin (k0_t37_loop v228 v257).trips, ∀ (hinb : ∀ a, (k0_off448 v1 k0_t34 v228 v257 k0_t37) a + S1x1x1x16x128.size a ≤ S2x2x108x128x128.size a), (Rect.unit (s := S2x2x108x128x128) (k0_off448 v1 k0_t34 v228 v257 k0_t37) S1x1x1x16x128.size hinb).PackedRows (EltTy.packing .bf16)) ∧
  (∀ k0_t37 : Fin (k0_t37_loop v228 v257).trips, ∀ a, (k0_off450 v1 k0_t34 v228 v257 k0_t37) a + S1x1x1x16x128.size a ≤ S2x2x108x128x128.size a) ∧
  (∀ k0_t37 : Fin (k0_t37_loop v228 v257).trips, ∀ (hinb : ∀ a, (k0_off450 v1 k0_t34 v228 v257 k0_t37) a + S1x1x1x16x128.size a ≤ S2x2x108x128x128.size a), (Rect.unit (s := S2x2x108x128x128) (k0_off450 v1 k0_t34 v228 v257 k0_t37) S1x1x1x16x128.size hinb).PackedRows (EltTy.packing .bf16)) ∧
  (∀ k0_t37 : Fin (k0_t37_loop v228 v257).trips, ∀ a, (k0_off451 v1 k0_t34 v228 v257 k0_t37) a + S1x1x1x32x128.size a ≤ S2x2x8x1728x128.size a) ∧
  (∀ k0_t37 : Fin (k0_t37_loop v228 v257).trips, ∀ a, (k0_off453 v1 k0_t34 v228 v257 k0_t37) a + S1x1x1x16x128.size a ≤ S2x2x108x128x128.size a) ∧
  (∀ k0_t37 : Fin (k0_t37_loop v228 v257).trips, ∀ (hinb : ∀ a, (k0_off453 v1 k0_t34 v228 v257 k0_t37) a + S1x1x1x16x128.size a ≤ S2x2x108x128x128.size a), (Rect.unit (s := S2x2x108x128x128) (k0_off453 v1 k0_t34 v228 v257 k0_t37) S1x1x1x16x128.size hinb).PackedRows (EltTy.packing .bf16)) ∧
  (∀ k0_t37 : Fin (k0_t37_loop v228 v257).trips, ∀ a, (k0_off455 v1 k0_t34 v228 v257 k0_t37) a + S1x1x1x16x128.size a ≤ S2x2x108x128x128.size a) ∧
  (∀ k0_t37 : Fin (k0_t37_loop v228 v257).trips, ∀ (hinb : ∀ a, (k0_off455 v1 k0_t34 v228 v257 k0_t37) a + S1x1x1x16x128.size a ≤ S2x2x108x128x128.size a), (Rect.unit (s := S2x2x108x128x128) (k0_off455 v1 k0_t34 v228 v257 k0_t37) S1x1x1x16x128.size hinb).PackedRows (EltTy.packing .bf16)) ∧
  (∀ k0_t37 : Fin (k0_t37_loop v228 v257).trips, ∀ a, (k0_off456 v1 k0_t34 v228 v257 k0_t37) a + S1x1x1x32x128.size a ≤ S2x2x8x1728x128.size a) ∧
  (∀ k0_t37 : Fin (k0_t37_loop v228 v257).trips, ∀ a, (k0_off458 v1 k0_t34 v228 v257 k0_t37) a + S1x1x1x16x128.size a ≤ S2x2x108x128x128.size a)
def k0_chk21_2 (v1 : BitVec 32) (k0_t34 : Fin (k0_t34_loop v1).trips) (v228 : BitVec 32) (v257 : BitVec 32) : Prop :=
  (∀ k0_t37 : Fin (k0_t37_loop v228 v257).trips, ∀ (hinb : ∀ a, (k0_off458 v1 k0_t34 v228 v257 k0_t37) a + S1x1x1x16x128.size a ≤ S2x2x108x128x128.size a), (Rect.unit (s := S2x2x108x128x128) (k0_off458 v1 k0_t34 v228 v257 k0_t37) S1x1x1x16x128.size hinb).PackedRows (EltTy.packing .bf16)) ∧
  (∀ k0_t37 : Fin (k0_t37_loop v228 v257).trips, ∀ a, (k0_off460 v1 k0_t34 v228 v257 k0_t37) a + S1x1x1x16x128.size a ≤ S2x2x108x128x128.size a) ∧
  (∀ k0_t37 : Fin (k0_t37_loop v228 v257).trips, ∀ (hinb : ∀ a, (k0_off460 v1 k0_t34 v228 v257 k0_t37) a + S1x1x1x16x128.size a ≤ S2x2x108x128x128.size a), (Rect.unit (s := S2x2x108x128x128) (k0_off460 v1 k0_t34 v228 v257 k0_t37) S1x1x1x16x128.size hinb).PackedRows (EltTy.packing .bf16)) ∧
  (∀ k0_t37 : Fin (k0_t37_loop v228 v257).trips, ∀ a, (k0_off461 v1 k0_t34 v228 v257 k0_t37) a + S1x1x1x32x128.size a ≤ S2x2x8x1728x128.size a) ∧
  (∀ k0_t37 : Fin (k0_t37_loop v228 v257).trips, ∀ a, (k0_off463 v1 k0_t34 v228 v257 k0_t37) a + S1x1x1x16x128.size a ≤ S2x2x108x128x128.size a) ∧
  (∀ k0_t37 : Fin (k0_t37_loop v228 v257).trips, ∀ (hinb : ∀ a, (k0_off463 v1 k0_t34 v228 v257 k0_t37) a + S1x1x1x16x128.size a ≤ S2x2x108x128x128.size a), (Rect.unit (s := S2x2x108x128x128) (k0_off463 v1 k0_t34 v228 v257 k0_t37) S1x1x1x16x128.size hinb).PackedRows (EltTy.packing .bf16)) ∧
  (∀ k0_t37 : Fin (k0_t37_loop v228 v257).trips, ∀ a, (k0_off465 v1 k0_t34 v228 v257 k0_t37) a + S1x1x1x16x128.size a ≤ S2x2x108x128x128.size a) ∧
  (∀ k0_t37 : Fin (k0_t37_loop v228 v257).trips, ∀ (hinb : ∀ a, (k0_off465 v1 k0_t34 v228 v257 k0_t37) a + S1x1x1x16x128.size a ≤ S2x2x108x128x128.size a), (Rect.unit (s := S2x2x108x128x128) (k0_off465 v1 k0_t34 v228 v257 k0_t37) S1x1x1x16x128.size hinb).PackedRows (EltTy.packing .bf16)) ∧
  (∀ k0_t37 : Fin (k0_t37_loop v228 v257).trips, ∀ a, (k0_off466 v1 k0_t34 v228 v257 k0_t37) a + S1x1x1x32x128.size a ≤ S2x2x8x1728x128.size a) ∧
  (∀ k0_t37 : Fin (k0_t37_loop v228 v257).trips, ∀ a, (k0_off468 v1 k0_t34 v228 v257 k0_t37) a + S1x1x1x16x128.size a ≤ S2x2x108x128x128.size a) ∧
  (∀ k0_t37 : Fin (k0_t37_loop v228 v257).trips, ∀ (hinb : ∀ a, (k0_off468 v1 k0_t34 v228 v257 k0_t37) a + S1x1x1x16x128.size a ≤ S2x2x108x128x128.size a), (Rect.unit (s := S2x2x108x128x128) (k0_off468 v1 k0_t34 v228 v257 k0_t37) S1x1x1x16x128.size hinb).PackedRows (EltTy.packing .bf16)) ∧
  (∀ k0_t37 : Fin (k0_t37_loop v228 v257).trips, ∀ a, (k0_off470 v1 k0_t34 v228 v257 k0_t37) a + S1x1x1x16x128.size a ≤ S2x2x108x128x128.size a) ∧
  (∀ k0_t37 : Fin (k0_t37_loop v228 v257).trips, ∀ (hinb : ∀ a, (k0_off470 v1 k0_t34 v228 v257 k0_t37) a + S1x1x1x16x128.size a ≤ S2x2x108x128x128.size a), (Rect.unit (s := S2x2x108x128x128) (k0_off470 v1 k0_t34 v228 v257 k0_t37) S1x1x1x16x128.size hinb).PackedRows (EltTy.packing .bf16)) ∧
  (∀ k0_t37 : Fin (k0_t37_loop v228 v257).trips, ∀ a, (k0_off471 v1 k0_t34 v228 v257 k0_t37) a + S1x1x1x32x128.size a ≤ S2x2x8x1728x128.size a) ∧
  (∀ k0_t37 : Fin (k0_t37_loop v228 v257).trips, ∀ a, (k0_off473 v1 k0_t34 v228 v257 k0_t37) a + S1x1x1x16x128.size a ≤ S2x2x108x128x128.size a) ∧
  (∀ k0_t37 : Fin (k0_t37_loop v228 v257).trips, ∀ (hinb : ∀ a, (k0_off473 v1 k0_t34 v228 v257 k0_t37) a + S1x1x1x16x128.size a ≤ S2x2x108x128x128.size a), (Rect.unit (s := S2x2x108x128x128) (k0_off473 v1 k0_t34 v228 v257 k0_t37) S1x1x1x16x128.size hinb).PackedRows (EltTy.packing .bf16)) ∧
  (∀ k0_t37 : Fin (k0_t37_loop v228 v257).trips, ∀ a, (k0_off475 v1 k0_t34 v228 v257 k0_t37) a + S1x1x1x16x128.size a ≤ S2x2x108x128x128.size a) ∧
  (∀ k0_t37 : Fin (k0_t37_loop v228 v257).trips, ∀ (hinb : ∀ a, (k0_off475 v1 k0_t34 v228 v257 k0_t37) a + S1x1x1x16x128.size a ≤ S2x2x108x128x128.size a), (Rect.unit (s := S2x2x108x128x128) (k0_off475 v1 k0_t34 v228 v257 k0_t37) S1x1x1x16x128.size hinb).PackedRows (EltTy.packing .bf16)) ∧
  (∀ k0_t37 : Fin (k0_t37_loop v228 v257).trips, ∀ a, (k0_off476 v1 k0_t34 v228 v257 k0_t37) a + S1x1x1x32x128.size a ≤ S2x2x8x1728x128.size a) ∧
  (∀ k0_t37 : Fin (k0_t37_loop v228 v257).trips, ∀ a, (k0_off478 v1 k0_t34 v228 v257 k0_t37) a + S1x1x1x16x128.size a ≤ S2x2x108x128x128.size a) ∧
  (∀ k0_t37 : Fin (k0_t37_loop v228 v257).trips, ∀ (hinb : ∀ a, (k0_off478 v1 k0_t34 v228 v257 k0_t37) a + S1x1x1x16x128.size a ≤ S2x2x108x128x128.size a), (Rect.unit (s := S2x2x108x128x128) (k0_off478 v1 k0_t34 v228 v257 k0_t37) S1x1x1x16x128.size hinb).PackedRows (EltTy.packing .bf16)) ∧
  (∀ k0_t37 : Fin (k0_t37_loop v228 v257).trips, ∀ a, (k0_off480 v1 k0_t34 v228 v257 k0_t37) a + S1x1x1x16x128.size a ≤ S2x2x108x128x128.size a) ∧
  (∀ k0_t37 : Fin (k0_t37_loop v228 v257).trips, ∀ (hinb : ∀ a, (k0_off480 v1 k0_t34 v228 v257 k0_t37) a + S1x1x1x16x128.size a ≤ S2x2x108x128x128.size a), (Rect.unit (s := S2x2x108x128x128) (k0_off480 v1 k0_t34 v228 v257 k0_t37) S1x1x1x16x128.size hinb).PackedRows (EltTy.packing .bf16)) ∧
  (∀ k0_t37 : Fin (k0_t37_loop v228 v257).trips, ∀ a, (k0_off481 v1 k0_t34 v228 v257 k0_t37) a + S1x1x1x32x128.size a ≤ S2x2x8x1728x128.size a) ∧
  (∀ k0_t37 : Fin (k0_t37_loop v228 v257).trips, ∀ a, (k0_off483 v1 k0_t34 v228 v257 k0_t37) a + S1x1x1x16x128.size a ≤ S2x2x108x128x128.size a) ∧
  (∀ k0_t37 : Fin (k0_t37_loop v228 v257).trips, ∀ (hinb : ∀ a, (k0_off483 v1 k0_t34 v228 v257 k0_t37) a + S1x1x1x16x128.size a ≤ S2x2x108x128x128.size a), (Rect.unit (s := S2x2x108x128x128) (k0_off483 v1 k0_t34 v228 v257 k0_t37) S1x1x1x16x128.size hinb).PackedRows (EltTy.packing .bf16)) ∧
  (∀ k0_t37 : Fin (k0_t37_loop v228 v257).trips, ∀ a, (k0_off485 v1 k0_t34 v228 v257 k0_t37) a + S1x1x1x16x128.size a ≤ S2x2x108x128x128.size a) ∧
  (∀ k0_t37 : Fin (k0_t37_loop v228 v257).trips, ∀ (hinb : ∀ a, (k0_off485 v1 k0_t34 v228 v257 k0_t37) a + S1x1x1x16x128.size a ≤ S2x2x108x128x128.size a), (Rect.unit (s := S2x2x108x128x128) (k0_off485 v1 k0_t34 v228 v257 k0_t37) S1x1x1x16x128.size hinb).PackedRows (EltTy.packing .bf16)) ∧
  (∀ k0_t37 : Fin (k0_t37_loop v228 v257).trips, ∀ a, (k0_off486 v1 k0_t34 v228 v257 k0_t37) a + S1x1x1x32x128.size a ≤ S2x2x8x1728x128.size a) ∧
  (∀ k0_t37 : Fin (k0_t37_loop v228 v257).trips, ∀ a, (k0_off488 v1 k0_t34 v228 v257 k0_t37) a + S1x1x1x16x128.size a ≤ S2x2x108x128x128.size a) ∧
  (∀ k0_t37 : Fin (k0_t37_loop v228 v257).trips, ∀ (hinb : ∀ a, (k0_off488 v1 k0_t34 v228 v257 k0_t37) a + S1x1x1x16x128.size a ≤ S2x2x108x128x128.size a), (Rect.unit (s := S2x2x108x128x128) (k0_off488 v1 k0_t34 v228 v257 k0_t37) S1x1x1x16x128.size hinb).PackedRows (EltTy.packing .bf16)) ∧
  (∀ k0_t37 : Fin (k0_t37_loop v228 v257).trips, ∀ a, (k0_off490 v1 k0_t34 v228 v257 k0_t37) a + S1x1x1x16x128.size a ≤ S2x2x108x128x128.size a)
def k0_chk21_3 (v1 : BitVec 32) (k0_t34 : Fin (k0_t34_loop v1).trips) (v228 : BitVec 32) (v257 : BitVec 32) : Prop :=
  (∀ k0_t37 : Fin (k0_t37_loop v228 v257).trips, ∀ (hinb : ∀ a, (k0_off490 v1 k0_t34 v228 v257 k0_t37) a + S1x1x1x16x128.size a ≤ S2x2x108x128x128.size a), (Rect.unit (s := S2x2x108x128x128) (k0_off490 v1 k0_t34 v228 v257 k0_t37) S1x1x1x16x128.size hinb).PackedRows (EltTy.packing .bf16)) ∧
  (∀ k0_t37 : Fin (k0_t37_loop v228 v257).trips, ∀ a, (k0_off491 v1 k0_t34 v228 v257 k0_t37) a + S1x1x1x32x128.size a ≤ S2x2x8x1728x128.size a) ∧
  (∀ k0_t37 : Fin (k0_t37_loop v228 v257).trips, ∀ a, (k0_off493 v1 k0_t34 v228 v257 k0_t37) a + S1x1x1x16x128.size a ≤ S2x2x108x128x128.size a) ∧
  (∀ k0_t37 : Fin (k0_t37_loop v228 v257).trips, ∀ (hinb : ∀ a, (k0_off493 v1 k0_t34 v228 v257 k0_t37) a + S1x1x1x16x128.size a ≤ S2x2x108x128x128.size a), (Rect.unit (s := S2x2x108x128x128) (k0_off493 v1 k0_t34 v228 v257 k0_t37) S1x1x1x16x128.size hinb).PackedRows (EltTy.packing .bf16)) ∧
  (∀ k0_t37 : Fin (k0_t37_loop v228 v257).trips, ∀ a, (k0_off495 v1 k0_t34 v228 v257 k0_t37) a + S1x1x1x16x128.size a ≤ S2x2x108x128x128.size a) ∧
  (∀ k0_t37 : Fin (k0_t37_loop v228 v257).trips, ∀ (hinb : ∀ a, (k0_off495 v1 k0_t34 v228 v257 k0_t37) a + S1x1x1x16x128.size a ≤ S2x2x108x128x128.size a), (Rect.unit (s := S2x2x108x128x128) (k0_off495 v1 k0_t34 v228 v257 k0_t37) S1x1x1x16x128.size hinb).PackedRows (EltTy.packing .bf16)) ∧
  (∀ k0_t37 : Fin (k0_t37_loop v228 v257).trips, ∀ a, (k0_off496 v1 k0_t34 v228 v257 k0_t37) a + S1x1x1x32x128.size a ≤ S2x2x8x1728x128.size a) ∧
  (∀ k0_t37 : Fin (k0_t37_loop v228 v257).trips, ∀ a, (k0_off498 v1 k0_t34 v228 v257 k0_t37) a + S1x1x1x16x128.size a ≤ S2x2x108x128x128.size a) ∧
  (∀ k0_t37 : Fin (k0_t37_loop v228 v257).trips, ∀ (hinb : ∀ a, (k0_off498 v1 k0_t34 v228 v257 k0_t37) a + S1x1x1x16x128.size a ≤ S2x2x108x128x128.size a), (Rect.unit (s := S2x2x108x128x128) (k0_off498 v1 k0_t34 v228 v257 k0_t37) S1x1x1x16x128.size hinb).PackedRows (EltTy.packing .bf16)) ∧
  (∀ k0_t37 : Fin (k0_t37_loop v228 v257).trips, ∀ a, (k0_off500 v1 k0_t34 v228 v257 k0_t37) a + S1x1x1x16x128.size a ≤ S2x2x108x128x128.size a) ∧
  (∀ k0_t37 : Fin (k0_t37_loop v228 v257).trips, ∀ (hinb : ∀ a, (k0_off500 v1 k0_t34 v228 v257 k0_t37) a + S1x1x1x16x128.size a ≤ S2x2x108x128x128.size a), (Rect.unit (s := S2x2x108x128x128) (k0_off500 v1 k0_t34 v228 v257 k0_t37) S1x1x1x16x128.size hinb).PackedRows (EltTy.packing .bf16)) ∧
  (∀ k0_t37 : Fin (k0_t37_loop v228 v257).trips, ∀ a, (k0_off501 v1 k0_t34 v228 v257 k0_t37) a + S1x1x1x32x128.size a ≤ S2x2x8x1728x128.size a) ∧
  (∀ k0_t37 : Fin (k0_t37_loop v228 v257).trips, ∀ a, (k0_off503 v1 k0_t34 v228 v257 k0_t37) a + S1x1x1x16x128.size a ≤ S2x2x108x128x128.size a) ∧
  (∀ k0_t37 : Fin (k0_t37_loop v228 v257).trips, ∀ (hinb : ∀ a, (k0_off503 v1 k0_t34 v228 v257 k0_t37) a + S1x1x1x16x128.size a ≤ S2x2x108x128x128.size a), (Rect.unit (s := S2x2x108x128x128) (k0_off503 v1 k0_t34 v228 v257 k0_t37) S1x1x1x16x128.size hinb).PackedRows (EltTy.packing .bf16)) ∧
  (∀ k0_t37 : Fin (k0_t37_loop v228 v257).trips, ∀ a, (k0_off505 v1 k0_t34 v228 v257 k0_t37) a + S1x1x1x16x128.size a ≤ S2x2x108x128x128.size a) ∧
  (∀ k0_t37 : Fin (k0_t37_loop v228 v257).trips, ∀ (hinb : ∀ a, (k0_off505 v1 k0_t34 v228 v257 k0_t37) a + S1x1x1x16x128.size a ≤ S2x2x108x128x128.size a), (Rect.unit (s := S2x2x108x128x128) (k0_off505 v1 k0_t34 v228 v257 k0_t37) S1x1x1x16x128.size hinb).PackedRows (EltTy.packing .bf16)) ∧
  (∀ k0_t37 : Fin (k0_t37_loop v228 v257).trips, ∀ a, (k0_off506 v1 k0_t34 v228 v257 k0_t37) a + S1x1x1x32x128.size a ≤ S2x2x8x1728x128.size a) ∧
  (∀ k0_t37 : Fin (k0_t37_loop v228 v257).trips, ∀ a, (k0_off508 v1 k0_t34 v228 v257 k0_t37) a + S1x1x1x16x128.size a ≤ S2x2x108x128x128.size a) ∧
  (∀ k0_t37 : Fin (k0_t37_loop v228 v257).trips, ∀ (hinb : ∀ a, (k0_off508 v1 k0_t34 v228 v257 k0_t37) a + S1x1x1x16x128.size a ≤ S2x2x108x128x128.size a), (Rect.unit (s := S2x2x108x128x128) (k0_off508 v1 k0_t34 v228 v257 k0_t37) S1x1x1x16x128.size hinb).PackedRows (EltTy.packing .bf16)) ∧
  (∀ k0_t37 : Fin (k0_t37_loop v228 v257).trips, ∀ a, (k0_off510 v1 k0_t34 v228 v257 k0_t37) a + S1x1x1x16x128.size a ≤ S2x2x108x128x128.size a) ∧
  (∀ k0_t37 : Fin (k0_t37_loop v228 v257).trips, ∀ (hinb : ∀ a, (k0_off510 v1 k0_t34 v228 v257 k0_t37) a + S1x1x1x16x128.size a ≤ S2x2x108x128x128.size a), (Rect.unit (s := S2x2x108x128x128) (k0_off510 v1 k0_t34 v228 v257 k0_t37) S1x1x1x16x128.size hinb).PackedRows (EltTy.packing .bf16)) ∧
  (∀ k0_t37 : Fin (k0_t37_loop v228 v257).trips, ∀ a, (k0_off511 v1 k0_t34 v228 v257 k0_t37) a + S1x1x1x32x128.size a ≤ S2x2x8x1728x128.size a) ∧
  (∀ k0_t37 : Fin (k0_t37_loop v228 v257).trips, ∀ a, (k0_off513 v1 k0_t34 v228 v257 k0_t37) a + S1x1x1x16x128.size a ≤ S2x2x108x128x128.size a) ∧
  (∀ k0_t37 : Fin (k0_t37_loop v228 v257).trips, ∀ (hinb : ∀ a, (k0_off513 v1 k0_t34 v228 v257 k0_t37) a + S1x1x1x16x128.size a ≤ S2x2x108x128x128.size a), (Rect.unit (s := S2x2x108x128x128) (k0_off513 v1 k0_t34 v228 v257 k0_t37) S1x1x1x16x128.size hinb).PackedRows (EltTy.packing .bf16)) ∧
  (∀ k0_t37 : Fin (k0_t37_loop v228 v257).trips, ∀ a, (k0_off515 v1 k0_t34 v228 v257 k0_t37) a + S1x1x1x16x128.size a ≤ S2x2x108x128x128.size a) ∧
  (∀ k0_t37 : Fin (k0_t37_loop v228 v257).trips, ∀ (hinb : ∀ a, (k0_off515 v1 k0_t34 v228 v257 k0_t37) a + S1x1x1x16x128.size a ≤ S2x2x108x128x128.size a), (Rect.unit (s := S2x2x108x128x128) (k0_off515 v1 k0_t34 v228 v257 k0_t37) S1x1x1x16x128.size hinb).PackedRows (EltTy.packing .bf16)) ∧
  (∀ k0_t37 : Fin (k0_t37_loop v228 v257).trips, ∀ a, (k0_off516 v1 k0_t34 v228 v257 k0_t37) a + S1x1x1x32x128.size a ≤ S2x2x8x1728x128.size a) ∧
  (∀ k0_t37 : Fin (k0_t37_loop v228 v257).trips, ∀ a, (k0_off518 v1 k0_t34 v228 v257 k0_t37) a + S1x1x1x16x128.size a ≤ S2x2x108x128x128.size a) ∧
  (∀ k0_t37 : Fin (k0_t37_loop v228 v257).trips, ∀ (hinb : ∀ a, (k0_off518 v1 k0_t34 v228 v257 k0_t37) a + S1x1x1x16x128.size a ≤ S2x2x108x128x128.size a), (Rect.unit (s := S2x2x108x128x128) (k0_off518 v1 k0_t34 v228 v257 k0_t37) S1x1x1x16x128.size hinb).PackedRows (EltTy.packing .bf16)) ∧
  (∀ k0_t37 : Fin (k0_t37_loop v228 v257).trips, ∀ a, (k0_off520 v1 k0_t34 v228 v257 k0_t37) a + S1x1x1x16x128.size a ≤ S2x2x108x128x128.size a) ∧
  (∀ k0_t37 : Fin (k0_t37_loop v228 v257).trips, ∀ (hinb : ∀ a, (k0_off520 v1 k0_t34 v228 v257 k0_t37) a + S1x1x1x16x128.size a ≤ S2x2x108x128x128.size a), (Rect.unit (s := S2x2x108x128x128) (k0_off520 v1 k0_t34 v228 v257 k0_t37) S1x1x1x16x128.size hinb).PackedRows (EltTy.packing .bf16)) ∧
  (∀ k0_t37 : Fin (k0_t37_loop v228 v257).trips, ∀ a, (k0_off521 v1 k0_t34 v228 v257 k0_t37) a + S1x1x1x32x128.size a ≤ S2x2x8x1728x128.size a)
def k0_chk21_4 (v1 : BitVec 32) (k0_t34 : Fin (k0_t34_loop v1).trips) (v228 : BitVec 32) (v257 : BitVec 32) : Prop :=
  (∀ k0_t37 : Fin (k0_t37_loop v228 v257).trips, ∀ a, (k0_off523 v1 k0_t34 v228 v257 k0_t37) a + S1x1x1x16x128.size a ≤ S2x2x108x128x128.size a) ∧
  (∀ k0_t37 : Fin (k0_t37_loop v228 v257).trips, ∀ (hinb : ∀ a, (k0_off523 v1 k0_t34 v228 v257 k0_t37) a + S1x1x1x16x128.size a ≤ S2x2x108x128x128.size a), (Rect.unit (s := S2x2x108x128x128) (k0_off523 v1 k0_t34 v228 v257 k0_t37) S1x1x1x16x128.size hinb).PackedRows (EltTy.packing .bf16)) ∧
  (∀ k0_t37 : Fin (k0_t37_loop v228 v257).trips, ∀ a, (k0_off525 v1 k0_t34 v228 v257 k0_t37) a + S1x1x1x16x128.size a ≤ S2x2x108x128x128.size a) ∧
  (∀ k0_t37 : Fin (k0_t37_loop v228 v257).trips, ∀ (hinb : ∀ a, (k0_off525 v1 k0_t34 v228 v257 k0_t37) a + S1x1x1x16x128.size a ≤ S2x2x108x128x128.size a), (Rect.unit (s := S2x2x108x128x128) (k0_off525 v1 k0_t34 v228 v257 k0_t37) S1x1x1x16x128.size hinb).PackedRows (EltTy.packing .bf16)) ∧
  (∀ k0_t37 : Fin (k0_t37_loop v228 v257).trips, ∀ a, (k0_off526 v1 k0_t34 v228 v257 k0_t37) a + S1x1x1x32x128.size a ≤ S2x2x8x1728x128.size a) ∧
  (∀ k0_t37 : Fin (k0_t37_loop v228 v257).trips, ∀ a, (k0_off528 v1 k0_t34 v228 v257 k0_t37) a + S1x1x1x16x128.size a ≤ S2x2x108x128x128.size a) ∧
  (∀ k0_t37 : Fin (k0_t37_loop v228 v257).trips, ∀ (hinb : ∀ a, (k0_off528 v1 k0_t34 v228 v257 k0_t37) a + S1x1x1x16x128.size a ≤ S2x2x108x128x128.size a), (Rect.unit (s := S2x2x108x128x128) (k0_off528 v1 k0_t34 v228 v257 k0_t37) S1x1x1x16x128.size hinb).PackedRows (EltTy.packing .bf16)) ∧
  (∀ k0_t37 : Fin (k0_t37_loop v228 v257).trips, ∀ a, (k0_off530 v1 k0_t34 v228 v257 k0_t37) a + S1x1x1x16x128.size a ≤ S2x2x108x128x128.size a) ∧
  (∀ k0_t37 : Fin (k0_t37_loop v228 v257).trips, ∀ (hinb : ∀ a, (k0_off530 v1 k0_t34 v228 v257 k0_t37) a + S1x1x1x16x128.size a ≤ S2x2x108x128x128.size a), (Rect.unit (s := S2x2x108x128x128) (k0_off530 v1 k0_t34 v228 v257 k0_t37) S1x1x1x16x128.size hinb).PackedRows (EltTy.packing .bf16)) ∧
  (∀ k0_t37 : Fin (k0_t37_loop v228 v257).trips, ∀ a, (k0_off531 v1 k0_t34 v228 v257 k0_t37) a + S1x1x1x32x128.size a ≤ S2x2x8x1728x128.size a) ∧
  (∀ k0_t37 : Fin (k0_t37_loop v228 v257).trips, ∀ a, (k0_off533 v1 k0_t34 v228 v257 k0_t37) a + S1x1x1x16x128.size a ≤ S2x2x108x128x128.size a) ∧
  (∀ k0_t37 : Fin (k0_t37_loop v228 v257).trips, ∀ (hinb : ∀ a, (k0_off533 v1 k0_t34 v228 v257 k0_t37) a + S1x1x1x16x128.size a ≤ S2x2x108x128x128.size a), (Rect.unit (s := S2x2x108x128x128) (k0_off533 v1 k0_t34 v228 v257 k0_t37) S1x1x1x16x128.size hinb).PackedRows (EltTy.packing .bf16)) ∧
  (∀ k0_t37 : Fin (k0_t37_loop v228 v257).trips, ∀ a, (k0_off535 v1 k0_t34 v228 v257 k0_t37) a + S1x1x1x16x128.size a ≤ S2x2x108x128x128.size a) ∧
  (∀ k0_t37 : Fin (k0_t37_loop v228 v257).trips, ∀ (hinb : ∀ a, (k0_off535 v1 k0_t34 v228 v257 k0_t37) a + S1x1x1x16x128.size a ≤ S2x2x108x128x128.size a), (Rect.unit (s := S2x2x108x128x128) (k0_off535 v1 k0_t34 v228 v257 k0_t37) S1x1x1x16x128.size hinb).PackedRows (EltTy.packing .bf16)) ∧
  (∀ k0_t37 : Fin (k0_t37_loop v228 v257).trips, ∀ a, (k0_off536 v1 k0_t34 v228 v257 k0_t37) a + S1x1x1x32x128.size a ≤ S2x2x8x1728x128.size a) ∧
  (∀ k0_t37 : Fin (k0_t37_loop v228 v257).trips, ∀ a, (k0_off538 v1 k0_t34 v228 v257 k0_t37) a + S1x1x1x16x128.size a ≤ S2x2x108x128x128.size a) ∧
  (∀ k0_t37 : Fin (k0_t37_loop v228 v257).trips, ∀ (hinb : ∀ a, (k0_off538 v1 k0_t34 v228 v257 k0_t37) a + S1x1x1x16x128.size a ≤ S2x2x108x128x128.size a), (Rect.unit (s := S2x2x108x128x128) (k0_off538 v1 k0_t34 v228 v257 k0_t37) S1x1x1x16x128.size hinb).PackedRows (EltTy.packing .bf16)) ∧
  (∀ k0_t37 : Fin (k0_t37_loop v228 v257).trips, ∀ a, (k0_off540 v1 k0_t34 v228 v257 k0_t37) a + S1x1x1x16x128.size a ≤ S2x2x108x128x128.size a) ∧
  (∀ k0_t37 : Fin (k0_t37_loop v228 v257).trips, ∀ (hinb : ∀ a, (k0_off540 v1 k0_t34 v228 v257 k0_t37) a + S1x1x1x16x128.size a ≤ S2x2x108x128x128.size a), (Rect.unit (s := S2x2x108x128x128) (k0_off540 v1 k0_t34 v228 v257 k0_t37) S1x1x1x16x128.size hinb).PackedRows (EltTy.packing .bf16)) ∧
  (∀ k0_t37 : Fin (k0_t37_loop v228 v257).trips, ∀ a, (k0_off541 v1 k0_t34 v228 v257 k0_t37) a + S1x1x1x32x128.size a ≤ S2x2x8x1728x128.size a) ∧
  (∀ k0_t37 : Fin (k0_t37_loop v228 v257).trips, ∀ a, (k0_off543 v1 k0_t34 v228 v257 k0_t37) a + S1x1x1x16x128.size a ≤ S2x2x108x128x128.size a) ∧
  (∀ k0_t37 : Fin (k0_t37_loop v228 v257).trips, ∀ (hinb : ∀ a, (k0_off543 v1 k0_t34 v228 v257 k0_t37) a + S1x1x1x16x128.size a ≤ S2x2x108x128x128.size a), (Rect.unit (s := S2x2x108x128x128) (k0_off543 v1 k0_t34 v228 v257 k0_t37) S1x1x1x16x128.size hinb).PackedRows (EltTy.packing .bf16)) ∧
  (∀ k0_t37 : Fin (k0_t37_loop v228 v257).trips, ∀ a, (k0_off545 v1 k0_t34 v228 v257 k0_t37) a + S1x1x1x16x128.size a ≤ S2x2x108x128x128.size a) ∧
  (∀ k0_t37 : Fin (k0_t37_loop v228 v257).trips, ∀ (hinb : ∀ a, (k0_off545 v1 k0_t34 v228 v257 k0_t37) a + S1x1x1x16x128.size a ≤ S2x2x108x128x128.size a), (Rect.unit (s := S2x2x108x128x128) (k0_off545 v1 k0_t34 v228 v257 k0_t37) S1x1x1x16x128.size hinb).PackedRows (EltTy.packing .bf16)) ∧
  (∀ k0_t37 : Fin (k0_t37_loop v228 v257).trips, ∀ a, (k0_off546 v1 k0_t34 v228 v257 k0_t37) a + S1x1x1x32x128.size a ≤ S2x2x8x1728x128.size a) ∧
  (∀ k0_t37 : Fin (k0_t37_loop v228 v257).trips, ∀ a, (k0_off548 v1 k0_t34 v228 v257 k0_t37) a + S1x1x1x16x128.size a ≤ S2x2x108x128x128.size a) ∧
  (∀ k0_t37 : Fin (k0_t37_loop v228 v257).trips, ∀ (hinb : ∀ a, (k0_off548 v1 k0_t34 v228 v257 k0_t37) a + S1x1x1x16x128.size a ≤ S2x2x108x128x128.size a), (Rect.unit (s := S2x2x108x128x128) (k0_off548 v1 k0_t34 v228 v257 k0_t37) S1x1x1x16x128.size hinb).PackedRows (EltTy.packing .bf16)) ∧
  (∀ k0_t37 : Fin (k0_t37_loop v228 v257).trips, ∀ a, (k0_off550 v1 k0_t34 v228 v257 k0_t37) a + S1x1x1x16x128.size a ≤ S2x2x108x128x128.size a) ∧
  (∀ k0_t37 : Fin (k0_t37_loop v228 v257).trips, ∀ (hinb : ∀ a, (k0_off550 v1 k0_t34 v228 v257 k0_t37) a + S1x1x1x16x128.size a ≤ S2x2x108x128x128.size a), (Rect.unit (s := S2x2x108x128x128) (k0_off550 v1 k0_t34 v228 v257 k0_t37) S1x1x1x16x128.size hinb).PackedRows (EltTy.packing .bf16)) ∧
  (∀ k0_t37 : Fin (k0_t37_loop v228 v257).trips, ∀ a, (k0_off551 v1 k0_t34 v228 v257 k0_t37) a + S1x1x1x32x128.size a ≤ S2x2x8x1728x128.size a) ∧
  (∀ k0_t37 : Fin (k0_t37_loop v228 v257).trips, ∀ a, (k0_off553 v1 k0_t34 v228 v257 k0_t37) a + S1x1x1x16x128.size a ≤ S2x2x108x128x128.size a) ∧
  (∀ k0_t37 : Fin (k0_t37_loop v228 v257).trips, ∀ (hinb : ∀ a, (k0_off553 v1 k0_t34 v228 v257 k0_t37) a + S1x1x1x16x128.size a ≤ S2x2x108x128x128.size a), (Rect.unit (s := S2x2x108x128x128) (k0_off553 v1 k0_t34 v228 v257 k0_t37) S1x1x1x16x128.size hinb).PackedRows (EltTy.packing .bf16))
def k0_chk21_5 (v1 : BitVec 32) (k0_t34 : Fin (k0_t34_loop v1).trips) (v228 : BitVec 32) (v257 : BitVec 32) : Prop :=
  (∀ k0_t37 : Fin (k0_t37_loop v228 v257).trips, ∀ a, (k0_off555 v1 k0_t34 v228 v257 k0_t37) a + S1x1x1x16x128.size a ≤ S2x2x108x128x128.size a) ∧
  (∀ k0_t37 : Fin (k0_t37_loop v228 v257).trips, ∀ (hinb : ∀ a, (k0_off555 v1 k0_t34 v228 v257 k0_t37) a + S1x1x1x16x128.size a ≤ S2x2x108x128x128.size a), (Rect.unit (s := S2x2x108x128x128) (k0_off555 v1 k0_t34 v228 v257 k0_t37) S1x1x1x16x128.size hinb).PackedRows (EltTy.packing .bf16)) ∧
  (∀ k0_t37 : Fin (k0_t37_loop v228 v257).trips, ∀ a, (k0_off556 v1 k0_t34 v228 v257 k0_t37) a + S1x1x1x32x128.size a ≤ S2x2x8x1728x128.size a) ∧
  (∀ k0_t37 : Fin (k0_t37_loop v228 v257).trips, ∀ a, (k0_off558 v1 k0_t34 v228 v257 k0_t37) a + S1x1x1x16x128.size a ≤ S2x2x108x128x128.size a) ∧
  (∀ k0_t37 : Fin (k0_t37_loop v228 v257).trips, ∀ (hinb : ∀ a, (k0_off558 v1 k0_t34 v228 v257 k0_t37) a + S1x1x1x16x128.size a ≤ S2x2x108x128x128.size a), (Rect.unit (s := S2x2x108x128x128) (k0_off558 v1 k0_t34 v228 v257 k0_t37) S1x1x1x16x128.size hinb).PackedRows (EltTy.packing .bf16)) ∧
  (∀ k0_t37 : Fin (k0_t37_loop v228 v257).trips, ∀ a, (k0_off560 v1 k0_t34 v228 v257 k0_t37) a + S1x1x1x16x128.size a ≤ S2x2x108x128x128.size a) ∧
  (∀ k0_t37 : Fin (k0_t37_loop v228 v257).trips, ∀ (hinb : ∀ a, (k0_off560 v1 k0_t34 v228 v257 k0_t37) a + S1x1x1x16x128.size a ≤ S2x2x108x128x128.size a), (Rect.unit (s := S2x2x108x128x128) (k0_off560 v1 k0_t34 v228 v257 k0_t37) S1x1x1x16x128.size hinb).PackedRows (EltTy.packing .bf16)) ∧
  (∀ k0_t37 : Fin (k0_t37_loop v228 v257).trips, ∀ a, (k0_off561 v1 k0_t34 v228 v257 k0_t37) a + S1x1x1x32x128.size a ≤ S2x2x8x1728x128.size a) ∧
  (∀ k0_t37 : Fin (k0_t37_loop v228 v257).trips, ∀ a, (k0_off563 v1 k0_t34 v228 v257 k0_t37) a + S1x1x1x16x128.size a ≤ S2x2x108x128x128.size a) ∧
  (∀ k0_t37 : Fin (k0_t37_loop v228 v257).trips, ∀ (hinb : ∀ a, (k0_off563 v1 k0_t34 v228 v257 k0_t37) a + S1x1x1x16x128.size a ≤ S2x2x108x128x128.size a), (Rect.unit (s := S2x2x108x128x128) (k0_off563 v1 k0_t34 v228 v257 k0_t37) S1x1x1x16x128.size hinb).PackedRows (EltTy.packing .bf16)) ∧
  (∀ k0_t37 : Fin (k0_t37_loop v228 v257).trips, ∀ a, (k0_off565 v1 k0_t34 v228 v257 k0_t37) a + S1x1x1x16x128.size a ≤ S2x2x108x128x128.size a) ∧
  (∀ k0_t37 : Fin (k0_t37_loop v228 v257).trips, ∀ (hinb : ∀ a, (k0_off565 v1 k0_t34 v228 v257 k0_t37) a + S1x1x1x16x128.size a ≤ S2x2x108x128x128.size a), (Rect.unit (s := S2x2x108x128x128) (k0_off565 v1 k0_t34 v228 v257 k0_t37) S1x1x1x16x128.size hinb).PackedRows (EltTy.packing .bf16)) ∧
  (∀ k0_t37 : Fin (k0_t37_loop v228 v257).trips, ∀ a, (k0_off566 v1 k0_t34 v228 v257 k0_t37) a + S1x1x1x32x128.size a ≤ S2x2x8x1728x128.size a) ∧
  (∀ k0_t37 : Fin (k0_t37_loop v228 v257).trips, ∀ a, (k0_off568 v1 k0_t34 v228 v257 k0_t37) a + S1x1x1x16x128.size a ≤ S2x2x108x128x128.size a) ∧
  (∀ k0_t37 : Fin (k0_t37_loop v228 v257).trips, ∀ (hinb : ∀ a, (k0_off568 v1 k0_t34 v228 v257 k0_t37) a + S1x1x1x16x128.size a ≤ S2x2x108x128x128.size a), (Rect.unit (s := S2x2x108x128x128) (k0_off568 v1 k0_t34 v228 v257 k0_t37) S1x1x1x16x128.size hinb).PackedRows (EltTy.packing .bf16)) ∧
  (∀ k0_t37 : Fin (k0_t37_loop v228 v257).trips, ∀ a, (k0_off570 v1 k0_t34 v228 v257 k0_t37) a + S1x1x1x16x128.size a ≤ S2x2x108x128x128.size a) ∧
  (∀ k0_t37 : Fin (k0_t37_loop v228 v257).trips, ∀ (hinb : ∀ a, (k0_off570 v1 k0_t34 v228 v257 k0_t37) a + S1x1x1x16x128.size a ≤ S2x2x108x128x128.size a), (Rect.unit (s := S2x2x108x128x128) (k0_off570 v1 k0_t34 v228 v257 k0_t37) S1x1x1x16x128.size hinb).PackedRows (EltTy.packing .bf16)) ∧
  (∀ k0_t37 : Fin (k0_t37_loop v228 v257).trips, ∀ a, (k0_off571 v1 k0_t34 v228 v257 k0_t37) a + S1x1x1x32x128.size a ≤ S2x2x8x1728x128.size a) ∧
  (∀ k0_t37 : Fin (k0_t37_loop v228 v257).trips, ∀ a, (k0_off573 v1 k0_t34 v228 v257 k0_t37) a + S1x1x1x16x128.size a ≤ S2x2x108x128x128.size a) ∧
  (∀ k0_t37 : Fin (k0_t37_loop v228 v257).trips, ∀ (hinb : ∀ a, (k0_off573 v1 k0_t34 v228 v257 k0_t37) a + S1x1x1x16x128.size a ≤ S2x2x108x128x128.size a), (Rect.unit (s := S2x2x108x128x128) (k0_off573 v1 k0_t34 v228 v257 k0_t37) S1x1x1x16x128.size hinb).PackedRows (EltTy.packing .bf16)) ∧
  (∀ k0_t37 : Fin (k0_t37_loop v228 v257).trips, ∀ a, (k0_off575 v1 k0_t34 v228 v257 k0_t37) a + S1x1x1x16x128.size a ≤ S2x2x108x128x128.size a) ∧
  (∀ k0_t37 : Fin (k0_t37_loop v228 v257).trips, ∀ (hinb : ∀ a, (k0_off575 v1 k0_t34 v228 v257 k0_t37) a + S1x1x1x16x128.size a ≤ S2x2x108x128x128.size a), (Rect.unit (s := S2x2x108x128x128) (k0_off575 v1 k0_t34 v228 v257 k0_t37) S1x1x1x16x128.size hinb).PackedRows (EltTy.packing .bf16)) ∧
  (∀ k0_t37 : Fin (k0_t37_loop v228 v257).trips, ∀ a, (k0_off576 v1 k0_t34 v228 v257 k0_t37) a + S1x1x1x32x128.size a ≤ S2x2x8x1728x128.size a) ∧
  (∀ k0_t37 : Fin (k0_t37_loop v228 v257).trips, ∀ a, (k0_off578 v1 k0_t34 v228 v257 k0_t37) a + S1x1x1x16x128.size a ≤ S2x2x108x128x128.size a) ∧
  (∀ k0_t37 : Fin (k0_t37_loop v228 v257).trips, ∀ (hinb : ∀ a, (k0_off578 v1 k0_t34 v228 v257 k0_t37) a + S1x1x1x16x128.size a ≤ S2x2x108x128x128.size a), (Rect.unit (s := S2x2x108x128x128) (k0_off578 v1 k0_t34 v228 v257 k0_t37) S1x1x1x16x128.size hinb).PackedRows (EltTy.packing .bf16)) ∧
  (∀ k0_t37 : Fin (k0_t37_loop v228 v257).trips, ∀ a, (k0_off580 v1 k0_t34 v228 v257 k0_t37) a + S1x1x1x16x128.size a ≤ S2x2x108x128x128.size a) ∧
  (∀ k0_t37 : Fin (k0_t37_loop v228 v257).trips, ∀ (hinb : ∀ a, (k0_off580 v1 k0_t34 v228 v257 k0_t37) a + S1x1x1x16x128.size a ≤ S2x2x108x128x128.size a), (Rect.unit (s := S2x2x108x128x128) (k0_off580 v1 k0_t34 v228 v257 k0_t37) S1x1x1x16x128.size hinb).PackedRows (EltTy.packing .bf16)) ∧
  (∀ k0_t37 : Fin (k0_t37_loop v228 v257).trips, ∀ a, (k0_off581 v1 k0_t34 v228 v257 k0_t37) a + S1x1x1x32x128.size a ≤ S2x2x8x1728x128.size a) ∧
  (∀ k0_t37 : Fin (k0_t37_loop v228 v257).trips, ∀ a, (k0_off583 v1 k0_t34 v228 v257 k0_t37) a + S1x1x1x16x128.size a ≤ S2x2x108x128x128.size a) ∧
  (∀ k0_t37 : Fin (k0_t37_loop v228 v257).trips, ∀ (hinb : ∀ a, (k0_off583 v1 k0_t34 v228 v257 k0_t37) a + S1x1x1x16x128.size a ≤ S2x2x108x128x128.size a), (Rect.unit (s := S2x2x108x128x128) (k0_off583 v1 k0_t34 v228 v257 k0_t37) S1x1x1x16x128.size hinb).PackedRows (EltTy.packing .bf16)) ∧
  (∀ k0_t37 : Fin (k0_t37_loop v228 v257).trips, ∀ a, (k0_off585 v1 k0_t34 v228 v257 k0_t37) a + S1x1x1x16x128.size a ≤ S2x2x108x128x128.size a) ∧
  (∀ k0_t37 : Fin (k0_t37_loop v228 v257).trips, ∀ (hinb : ∀ a, (k0_off585 v1 k0_t34 v228 v257 k0_t37) a + S1x1x1x16x128.size a ≤ S2x2x108x128x128.size a), (Rect.unit (s := S2x2x108x128x128) (k0_off585 v1 k0_t34 v228 v257 k0_t37) S1x1x1x16x128.size hinb).PackedRows (EltTy.packing .bf16))
def k0_chk21_6 (v1 : BitVec 32) (k0_t34 : Fin (k0_t34_loop v1).trips) (v228 : BitVec 32) (v257 : BitVec 32) : Prop :=
  (∀ k0_t37 : Fin (k0_t37_loop v228 v257).trips, ∀ a, (k0_off586 v1 k0_t34 v228 v257 k0_t37) a + S1x1x1x32x128.size a ≤ S2x2x8x1728x128.size a) ∧
  (∀ k0_t37 : Fin (k0_t37_loop v228 v257).trips, ∀ a, (k0_off588 v1 k0_t34 v228 v257 k0_t37) a + S1x1x1x16x128.size a ≤ S2x2x108x128x128.size a) ∧
  (∀ k0_t37 : Fin (k0_t37_loop v228 v257).trips, ∀ (hinb : ∀ a, (k0_off588 v1 k0_t34 v228 v257 k0_t37) a + S1x1x1x16x128.size a ≤ S2x2x108x128x128.size a), (Rect.unit (s := S2x2x108x128x128) (k0_off588 v1 k0_t34 v228 v257 k0_t37) S1x1x1x16x128.size hinb).PackedRows (EltTy.packing .bf16)) ∧
  (∀ k0_t37 : Fin (k0_t37_loop v228 v257).trips, ∀ a, (k0_off590 v1 k0_t34 v228 v257 k0_t37) a + S1x1x1x16x128.size a ≤ S2x2x108x128x128.size a) ∧
  (∀ k0_t37 : Fin (k0_t37_loop v228 v257).trips, ∀ (hinb : ∀ a, (k0_off590 v1 k0_t34 v228 v257 k0_t37) a + S1x1x1x16x128.size a ≤ S2x2x108x128x128.size a), (Rect.unit (s := S2x2x108x128x128) (k0_off590 v1 k0_t34 v228 v257 k0_t37) S1x1x1x16x128.size hinb).PackedRows (EltTy.packing .bf16)) ∧
  (∀ k0_t37 : Fin (k0_t37_loop v228 v257).trips, ∀ a, (k0_off591 v1 k0_t34 v228 v257 k0_t37) a + S1x1x1x32x128.size a ≤ S2x2x8x1728x128.size a) ∧
  (∀ k0_t37 : Fin (k0_t37_loop v228 v257).trips, ∀ a, (k0_off593 v1 k0_t34 v228 v257 k0_t37) a + S1x1x1x16x128.size a ≤ S2x2x108x128x128.size a) ∧
  (∀ k0_t37 : Fin (k0_t37_loop v228 v257).trips, ∀ (hinb : ∀ a, (k0_off593 v1 k0_t34 v228 v257 k0_t37) a + S1x1x1x16x128.size a ≤ S2x2x108x128x128.size a), (Rect.unit (s := S2x2x108x128x128) (k0_off593 v1 k0_t34 v228 v257 k0_t37) S1x1x1x16x128.size hinb).PackedRows (EltTy.packing .bf16)) ∧
  (∀ k0_t37 : Fin (k0_t37_loop v228 v257).trips, ∀ a, (k0_off595 v1 k0_t34 v228 v257 k0_t37) a + S1x1x1x16x128.size a ≤ S2x2x108x128x128.size a) ∧
  (∀ k0_t37 : Fin (k0_t37_loop v228 v257).trips, ∀ (hinb : ∀ a, (k0_off595 v1 k0_t34 v228 v257 k0_t37) a + S1x1x1x16x128.size a ≤ S2x2x108x128x128.size a), (Rect.unit (s := S2x2x108x128x128) (k0_off595 v1 k0_t34 v228 v257 k0_t37) S1x1x1x16x128.size hinb).PackedRows (EltTy.packing .bf16)) ∧
  (∀ k0_t37 : Fin (k0_t37_loop v228 v257).trips, ∀ a, (k0_off596 v1 k0_t34 v228 v257 k0_t37) a + S1x1x1x32x128.size a ≤ S2x2x8x1728x128.size a) ∧
  (∀ k0_t37 : Fin (k0_t37_loop v228 v257).trips, ∀ a, (k0_off598 v1 k0_t34 v228 v257 k0_t37) a + S1x1x1x16x128.size a ≤ S2x2x108x128x128.size a) ∧
  (∀ k0_t37 : Fin (k0_t37_loop v228 v257).trips, ∀ (hinb : ∀ a, (k0_off598 v1 k0_t34 v228 v257 k0_t37) a + S1x1x1x16x128.size a ≤ S2x2x108x128x128.size a), (Rect.unit (s := S2x2x108x128x128) (k0_off598 v1 k0_t34 v228 v257 k0_t37) S1x1x1x16x128.size hinb).PackedRows (EltTy.packing .bf16)) ∧
  (∀ k0_t37 : Fin (k0_t37_loop v228 v257).trips, ∀ a, (k0_off600 v1 k0_t34 v228 v257 k0_t37) a + S1x1x1x16x128.size a ≤ S2x2x108x128x128.size a) ∧
  (∀ k0_t37 : Fin (k0_t37_loop v228 v257).trips, ∀ (hinb : ∀ a, (k0_off600 v1 k0_t34 v228 v257 k0_t37) a + S1x1x1x16x128.size a ≤ S2x2x108x128x128.size a), (Rect.unit (s := S2x2x108x128x128) (k0_off600 v1 k0_t34 v228 v257 k0_t37) S1x1x1x16x128.size hinb).PackedRows (EltTy.packing .bf16)) ∧
  (∀ k0_t37 : Fin (k0_t37_loop v228 v257).trips, ∀ a, (k0_off601 v1 k0_t34 v228 v257 k0_t37) a + S1x1x1x32x128.size a ≤ S2x2x8x1728x128.size a) ∧
  (∀ k0_t37 : Fin (k0_t37_loop v228 v257).trips, ∀ a, (k0_off603 v1 k0_t34 v228 v257 k0_t37) a + S1x1x1x16x128.size a ≤ S2x2x108x128x128.size a) ∧
  (∀ k0_t37 : Fin (k0_t37_loop v228 v257).trips, ∀ (hinb : ∀ a, (k0_off603 v1 k0_t34 v228 v257 k0_t37) a + S1x1x1x16x128.size a ≤ S2x2x108x128x128.size a), (Rect.unit (s := S2x2x108x128x128) (k0_off603 v1 k0_t34 v228 v257 k0_t37) S1x1x1x16x128.size hinb).PackedRows (EltTy.packing .bf16)) ∧
  (∀ k0_t37 : Fin (k0_t37_loop v228 v257).trips, ∀ a, (k0_off605 v1 k0_t34 v228 v257 k0_t37) a + S1x1x1x16x128.size a ≤ S2x2x108x128x128.size a) ∧
  (∀ k0_t37 : Fin (k0_t37_loop v228 v257).trips, ∀ (hinb : ∀ a, (k0_off605 v1 k0_t34 v228 v257 k0_t37) a + S1x1x1x16x128.size a ≤ S2x2x108x128x128.size a), (Rect.unit (s := S2x2x108x128x128) (k0_off605 v1 k0_t34 v228 v257 k0_t37) S1x1x1x16x128.size hinb).PackedRows (EltTy.packing .bf16)) ∧
  (∀ k0_t37 : Fin (k0_t37_loop v228 v257).trips, ∀ a, (k0_off606 v1 k0_t34 v228 v257 k0_t37) a + S1x1x1x32x128.size a ≤ S2x2x8x1728x128.size a) ∧
  (∀ k0_t37 : Fin (k0_t37_loop v228 v257).trips, ∀ a, (k0_off608 v1 k0_t34 v228 v257 k0_t37) a + S1x1x1x16x128.size a ≤ S2x2x108x128x128.size a) ∧
  (∀ k0_t37 : Fin (k0_t37_loop v228 v257).trips, ∀ (hinb : ∀ a, (k0_off608 v1 k0_t34 v228 v257 k0_t37) a + S1x1x1x16x128.size a ≤ S2x2x108x128x128.size a), (Rect.unit (s := S2x2x108x128x128) (k0_off608 v1 k0_t34 v228 v257 k0_t37) S1x1x1x16x128.size hinb).PackedRows (EltTy.packing .bf16)) ∧
  (∀ k0_t37 : Fin (k0_t37_loop v228 v257).trips, ∀ a, (k0_off610 v1 k0_t34 v228 v257 k0_t37) a + S1x1x1x16x128.size a ≤ S2x2x108x128x128.size a) ∧
  (∀ k0_t37 : Fin (k0_t37_loop v228 v257).trips, ∀ (hinb : ∀ a, (k0_off610 v1 k0_t34 v228 v257 k0_t37) a + S1x1x1x16x128.size a ≤ S2x2x108x128x128.size a), (Rect.unit (s := S2x2x108x128x128) (k0_off610 v1 k0_t34 v228 v257 k0_t37) S1x1x1x16x128.size hinb).PackedRows (EltTy.packing .bf16)) ∧
  (∀ k0_t37 : Fin (k0_t37_loop v228 v257).trips, ∀ a, (k0_off611 v1 k0_t34 v228 v257 k0_t37) a + S1x1x1x32x128.size a ≤ S2x2x8x1728x128.size a) ∧
  (∀ k0_t37 : Fin (k0_t37_loop v228 v257).trips, ∀ a, (k0_off613 v1 k0_t34 v228 v257 k0_t37) a + S1x1x1x16x128.size a ≤ S2x2x108x128x128.size a) ∧
  (∀ k0_t37 : Fin (k0_t37_loop v228 v257).trips, ∀ (hinb : ∀ a, (k0_off613 v1 k0_t34 v228 v257 k0_t37) a + S1x1x1x16x128.size a ≤ S2x2x108x128x128.size a), (Rect.unit (s := S2x2x108x128x128) (k0_off613 v1 k0_t34 v228 v257 k0_t37) S1x1x1x16x128.size hinb).PackedRows (EltTy.packing .bf16)) ∧
  (∀ k0_t37 : Fin (k0_t37_loop v228 v257).trips, ∀ a, (k0_off615 v1 k0_t34 v228 v257 k0_t37) a + S1x1x1x16x128.size a ≤ S2x2x108x128x128.size a) ∧
  (∀ k0_t37 : Fin (k0_t37_loop v228 v257).trips, ∀ (hinb : ∀ a, (k0_off615 v1 k0_t34 v228 v257 k0_t37) a + S1x1x1x16x128.size a ≤ S2x2x108x128x128.size a), (Rect.unit (s := S2x2x108x128x128) (k0_off615 v1 k0_t34 v228 v257 k0_t37) S1x1x1x16x128.size hinb).PackedRows (EltTy.packing .bf16)) ∧
  (∀ k0_t37 : Fin (k0_t37_loop v228 v257).trips, ∀ a, (k0_off616 v1 k0_t34 v228 v257 k0_t37) a + S1x1x1x32x128.size a ≤ S2x2x8x1728x128.size a) ∧
  (∀ k0_t37 : Fin (k0_t37_loop v228 v257).trips, ∀ a, (k0_off618 v1 k0_t34 v228 v257 k0_t37) a + S1x1x1x16x128.size a ≤ S2x2x108x128x128.size a)
def k0_chk21_7 (v1 : BitVec 32) (k0_t34 : Fin (k0_t34_loop v1).trips) (v228 : BitVec 32) (v257 : BitVec 32) : Prop :=
  (∀ k0_t37 : Fin (k0_t37_loop v228 v257).trips, ∀ (hinb : ∀ a, (k0_off618 v1 k0_t34 v228 v257 k0_t37) a + S1x1x1x16x128.size a ≤ S2x2x108x128x128.size a), (Rect.unit (s := S2x2x108x128x128) (k0_off618 v1 k0_t34 v228 v257 k0_t37) S1x1x1x16x128.size hinb).PackedRows (EltTy.packing .bf16)) ∧
  (∀ k0_t37 : Fin (k0_t37_loop v228 v257).trips, ∀ a, (k0_off620 v1 k0_t34 v228 v257 k0_t37) a + S1x1x1x16x128.size a ≤ S2x2x108x128x128.size a) ∧
  (∀ k0_t37 : Fin (k0_t37_loop v228 v257).trips, ∀ (hinb : ∀ a, (k0_off620 v1 k0_t34 v228 v257 k0_t37) a + S1x1x1x16x128.size a ≤ S2x2x108x128x128.size a), (Rect.unit (s := S2x2x108x128x128) (k0_off620 v1 k0_t34 v228 v257 k0_t37) S1x1x1x16x128.size hinb).PackedRows (EltTy.packing .bf16)) ∧
  (∀ k0_t37 : Fin (k0_t37_loop v228 v257).trips, ∀ a, (k0_off621 v1 k0_t34 v228 v257 k0_t37) a + S1x1x1x32x128.size a ≤ S2x2x8x1728x128.size a) ∧
  (∀ k0_t37 : Fin (k0_t37_loop v228 v257).trips, ∀ a, (k0_off623 v1 k0_t34 v228 v257 k0_t37) a + S1x1x1x16x128.size a ≤ S2x2x108x128x128.size a) ∧
  (∀ k0_t37 : Fin (k0_t37_loop v228 v257).trips, ∀ (hinb : ∀ a, (k0_off623 v1 k0_t34 v228 v257 k0_t37) a + S1x1x1x16x128.size a ≤ S2x2x108x128x128.size a), (Rect.unit (s := S2x2x108x128x128) (k0_off623 v1 k0_t34 v228 v257 k0_t37) S1x1x1x16x128.size hinb).PackedRows (EltTy.packing .bf16)) ∧
  (∀ k0_t37 : Fin (k0_t37_loop v228 v257).trips, ∀ a, (k0_off625 v1 k0_t34 v228 v257 k0_t37) a + S1x1x1x16x128.size a ≤ S2x2x108x128x128.size a) ∧
  (∀ k0_t37 : Fin (k0_t37_loop v228 v257).trips, ∀ (hinb : ∀ a, (k0_off625 v1 k0_t34 v228 v257 k0_t37) a + S1x1x1x16x128.size a ≤ S2x2x108x128x128.size a), (Rect.unit (s := S2x2x108x128x128) (k0_off625 v1 k0_t34 v228 v257 k0_t37) S1x1x1x16x128.size hinb).PackedRows (EltTy.packing .bf16)) ∧
  (∀ k0_t37 : Fin (k0_t37_loop v228 v257).trips, ∀ a, (k0_off626 v1 k0_t34 v228 v257 k0_t37) a + S1x1x1x32x128.size a ≤ S2x2x8x1728x128.size a) ∧
  (∀ k0_t37 : Fin (k0_t37_loop v228 v257).trips, ∀ a, (k0_off628 v1 k0_t34 v228 v257 k0_t37) a + S1x1x1x16x128.size a ≤ S2x2x108x128x128.size a) ∧
  (∀ k0_t37 : Fin (k0_t37_loop v228 v257).trips, ∀ (hinb : ∀ a, (k0_off628 v1 k0_t34 v228 v257 k0_t37) a + S1x1x1x16x128.size a ≤ S2x2x108x128x128.size a), (Rect.unit (s := S2x2x108x128x128) (k0_off628 v1 k0_t34 v228 v257 k0_t37) S1x1x1x16x128.size hinb).PackedRows (EltTy.packing .bf16)) ∧
  (∀ k0_t37 : Fin (k0_t37_loop v228 v257).trips, ∀ a, (k0_off630 v1 k0_t34 v228 v257 k0_t37) a + S1x1x1x16x128.size a ≤ S2x2x108x128x128.size a) ∧
  (∀ k0_t37 : Fin (k0_t37_loop v228 v257).trips, ∀ (hinb : ∀ a, (k0_off630 v1 k0_t34 v228 v257 k0_t37) a + S1x1x1x16x128.size a ≤ S2x2x108x128x128.size a), (Rect.unit (s := S2x2x108x128x128) (k0_off630 v1 k0_t34 v228 v257 k0_t37) S1x1x1x16x128.size hinb).PackedRows (EltTy.packing .bf16)) ∧
  (∀ k0_t37 : Fin (k0_t37_loop v228 v257).trips, ∀ a, (k0_off631 v1 k0_t34 v228 v257 k0_t37) a + S1x1x1x32x128.size a ≤ S2x2x8x1728x128.size a) ∧
  (∀ k0_t37 : Fin (k0_t37_loop v228 v257).trips, ∀ a, (k0_off633 v1 k0_t34 v228 v257 k0_t37) a + S1x1x1x16x128.size a ≤ S2x2x108x128x128.size a) ∧
  (∀ k0_t37 : Fin (k0_t37_loop v228 v257).trips, ∀ (hinb : ∀ a, (k0_off633 v1 k0_t34 v228 v257 k0_t37) a + S1x1x1x16x128.size a ≤ S2x2x108x128x128.size a), (Rect.unit (s := S2x2x108x128x128) (k0_off633 v1 k0_t34 v228 v257 k0_t37) S1x1x1x16x128.size hinb).PackedRows (EltTy.packing .bf16)) ∧
  (∀ k0_t37 : Fin (k0_t37_loop v228 v257).trips, ∀ a, (k0_off635 v1 k0_t34 v228 v257 k0_t37) a + S1x1x1x16x128.size a ≤ S2x2x108x128x128.size a) ∧
  (∀ k0_t37 : Fin (k0_t37_loop v228 v257).trips, ∀ (hinb : ∀ a, (k0_off635 v1 k0_t34 v228 v257 k0_t37) a + S1x1x1x16x128.size a ≤ S2x2x108x128x128.size a), (Rect.unit (s := S2x2x108x128x128) (k0_off635 v1 k0_t34 v228 v257 k0_t37) S1x1x1x16x128.size hinb).PackedRows (EltTy.packing .bf16)) ∧
  (∀ k0_t37 : Fin (k0_t37_loop v228 v257).trips, ∀ a, (k0_off636 v1 k0_t34 v228 v257 k0_t37) a + S1x1x1x32x128.size a ≤ S2x2x8x1728x128.size a) ∧
  (∀ k0_t37 : Fin (k0_t37_loop v228 v257).trips, ∀ a, (k0_off638 v1 k0_t34 v228 v257 k0_t37) a + S1x1x1x16x128.size a ≤ S2x2x108x128x128.size a) ∧
  (∀ k0_t37 : Fin (k0_t37_loop v228 v257).trips, ∀ (hinb : ∀ a, (k0_off638 v1 k0_t34 v228 v257 k0_t37) a + S1x1x1x16x128.size a ≤ S2x2x108x128x128.size a), (Rect.unit (s := S2x2x108x128x128) (k0_off638 v1 k0_t34 v228 v257 k0_t37) S1x1x1x16x128.size hinb).PackedRows (EltTy.packing .bf16)) ∧
  (∀ k0_t37 : Fin (k0_t37_loop v228 v257).trips, ∀ a, (k0_off640 v1 k0_t34 v228 v257 k0_t37) a + S1x1x1x16x128.size a ≤ S2x2x108x128x128.size a) ∧
  (∀ k0_t37 : Fin (k0_t37_loop v228 v257).trips, ∀ (hinb : ∀ a, (k0_off640 v1 k0_t34 v228 v257 k0_t37) a + S1x1x1x16x128.size a ≤ S2x2x108x128x128.size a), (Rect.unit (s := S2x2x108x128x128) (k0_off640 v1 k0_t34 v228 v257 k0_t37) S1x1x1x16x128.size hinb).PackedRows (EltTy.packing .bf16)) ∧
  (∀ k0_t37 : Fin (k0_t37_loop v228 v257).trips, ∀ a, (k0_off641 v1 k0_t34 v228 v257 k0_t37) a + S1x1x1x32x128.size a ≤ S2x2x8x1728x128.size a) ∧
  (∀ k0_t37 : Fin (k0_t37_loop v228 v257).trips, ∀ a, (k0_off643 v1 k0_t34 v228 v257 k0_t37) a + S1x1x1x16x128.size a ≤ S2x2x108x128x128.size a) ∧
  (∀ k0_t37 : Fin (k0_t37_loop v228 v257).trips, ∀ (hinb : ∀ a, (k0_off643 v1 k0_t34 v228 v257 k0_t37) a + S1x1x1x16x128.size a ≤ S2x2x108x128x128.size a), (Rect.unit (s := S2x2x108x128x128) (k0_off643 v1 k0_t34 v228 v257 k0_t37) S1x1x1x16x128.size hinb).PackedRows (EltTy.packing .bf16)) ∧
  (∀ k0_t37 : Fin (k0_t37_loop v228 v257).trips, ∀ a, (k0_off645 v1 k0_t34 v228 v257 k0_t37) a + S1x1x1x16x128.size a ≤ S2x2x108x128x128.size a) ∧
  (∀ k0_t37 : Fin (k0_t37_loop v228 v257).trips, ∀ (hinb : ∀ a, (k0_off645 v1 k0_t34 v228 v257 k0_t37) a + S1x1x1x16x128.size a ≤ S2x2x108x128x128.size a), (Rect.unit (s := S2x2x108x128x128) (k0_off645 v1 k0_t34 v228 v257 k0_t37) S1x1x1x16x128.size hinb).PackedRows (EltTy.packing .bf16)) ∧
  (∀ k0_t37 : Fin (k0_t37_loop v228 v257).trips, ∀ a, (k0_off646 v1 k0_t34 v228 v257 k0_t37) a + S1x1x1x32x128.size a ≤ S2x2x8x1728x128.size a) ∧
  (∀ k0_t37 : Fin (k0_t37_loop v228 v257).trips, ∀ a, (k0_off648 v1 k0_t34 v228 v257 k0_t37) a + S1x1x1x16x128.size a ≤ S2x2x108x128x128.size a) ∧
  (∀ k0_t37 : Fin (k0_t37_loop v228 v257).trips, ∀ (hinb : ∀ a, (k0_off648 v1 k0_t34 v228 v257 k0_t37) a + S1x1x1x16x128.size a ≤ S2x2x108x128x128.size a), (Rect.unit (s := S2x2x108x128x128) (k0_off648 v1 k0_t34 v228 v257 k0_t37) S1x1x1x16x128.size hinb).PackedRows (EltTy.packing .bf16)) ∧
  (∀ k0_t37 : Fin (k0_t37_loop v228 v257).trips, ∀ a, (k0_off650 v1 k0_t34 v228 v257 k0_t37) a + S1x1x1x16x128.size a ≤ S2x2x108x128x128.size a)
def k0_chk21_8 (v1 : BitVec 32) (k0_t34 : Fin (k0_t34_loop v1).trips) (v228 : BitVec 32) (v257 : BitVec 32) : Prop :=
  (∀ k0_t37 : Fin (k0_t37_loop v228 v257).trips, ∀ (hinb : ∀ a, (k0_off650 v1 k0_t34 v228 v257 k0_t37) a + S1x1x1x16x128.size a ≤ S2x2x108x128x128.size a), (Rect.unit (s := S2x2x108x128x128) (k0_off650 v1 k0_t34 v228 v257 k0_t37) S1x1x1x16x128.size hinb).PackedRows (EltTy.packing .bf16)) ∧
  (∀ k0_t37 : Fin (k0_t37_loop v228 v257).trips, ∀ a, (k0_off651 v1 k0_t34 v228 v257 k0_t37) a + S1x1x1x32x128.size a ≤ S2x2x8x1728x128.size a) ∧
  (∀ k0_t37 : Fin (k0_t37_loop v228 v257).trips, ∀ a, (k0_off653 v1 k0_t34 v228 v257 k0_t37) a + S1x1x1x16x128.size a ≤ S2x2x108x128x128.size a) ∧
  (∀ k0_t37 : Fin (k0_t37_loop v228 v257).trips, ∀ (hinb : ∀ a, (k0_off653 v1 k0_t34 v228 v257 k0_t37) a + S1x1x1x16x128.size a ≤ S2x2x108x128x128.size a), (Rect.unit (s := S2x2x108x128x128) (k0_off653 v1 k0_t34 v228 v257 k0_t37) S1x1x1x16x128.size hinb).PackedRows (EltTy.packing .bf16)) ∧
  (∀ k0_t37 : Fin (k0_t37_loop v228 v257).trips, ∀ a, (k0_off655 v1 k0_t34 v228 v257 k0_t37) a + S1x1x1x16x128.size a ≤ S2x2x108x128x128.size a) ∧
  (∀ k0_t37 : Fin (k0_t37_loop v228 v257).trips, ∀ (hinb : ∀ a, (k0_off655 v1 k0_t34 v228 v257 k0_t37) a + S1x1x1x16x128.size a ≤ S2x2x108x128x128.size a), (Rect.unit (s := S2x2x108x128x128) (k0_off655 v1 k0_t34 v228 v257 k0_t37) S1x1x1x16x128.size hinb).PackedRows (EltTy.packing .bf16)) ∧
  (∀ k0_t37 : Fin (k0_t37_loop v228 v257).trips, ∀ a, (k0_off656 v1 k0_t34 v228 v257 k0_t37) a + S1x1x1x32x128.size a ≤ S2x2x8x1728x128.size a) ∧
  (∀ k0_t37 : Fin (k0_t37_loop v228 v257).trips, ∀ a, (k0_off658 v1 k0_t34 v228 v257 k0_t37) a + S1x1x1x16x128.size a ≤ S2x2x108x128x128.size a) ∧
  (∀ k0_t37 : Fin (k0_t37_loop v228 v257).trips, ∀ (hinb : ∀ a, (k0_off658 v1 k0_t34 v228 v257 k0_t37) a + S1x1x1x16x128.size a ≤ S2x2x108x128x128.size a), (Rect.unit (s := S2x2x108x128x128) (k0_off658 v1 k0_t34 v228 v257 k0_t37) S1x1x1x16x128.size hinb).PackedRows (EltTy.packing .bf16)) ∧
  (∀ k0_t37 : Fin (k0_t37_loop v228 v257).trips, ∀ a, (k0_off660 v1 k0_t34 v228 v257 k0_t37) a + S1x1x1x16x128.size a ≤ S2x2x108x128x128.size a) ∧
  (∀ k0_t37 : Fin (k0_t37_loop v228 v257).trips, ∀ (hinb : ∀ a, (k0_off660 v1 k0_t34 v228 v257 k0_t37) a + S1x1x1x16x128.size a ≤ S2x2x108x128x128.size a), (Rect.unit (s := S2x2x108x128x128) (k0_off660 v1 k0_t34 v228 v257 k0_t37) S1x1x1x16x128.size hinb).PackedRows (EltTy.packing .bf16)) ∧
  (∀ k0_t37 : Fin (k0_t37_loop v228 v257).trips, ∀ a, (k0_off661 v1 k0_t34 v228 v257 k0_t37) a + S1x1x1x32x128.size a ≤ S2x2x8x1728x128.size a) ∧
  (∀ k0_t37 : Fin (k0_t37_loop v228 v257).trips, ∀ a, (k0_off663 v1 k0_t34 v228 v257 k0_t37) a + S1x1x1x16x128.size a ≤ S2x2x108x128x128.size a) ∧
  (∀ k0_t37 : Fin (k0_t37_loop v228 v257).trips, ∀ (hinb : ∀ a, (k0_off663 v1 k0_t34 v228 v257 k0_t37) a + S1x1x1x16x128.size a ≤ S2x2x108x128x128.size a), (Rect.unit (s := S2x2x108x128x128) (k0_off663 v1 k0_t34 v228 v257 k0_t37) S1x1x1x16x128.size hinb).PackedRows (EltTy.packing .bf16)) ∧
  (∀ k0_t37 : Fin (k0_t37_loop v228 v257).trips, ∀ a, (k0_off665 v1 k0_t34 v228 v257 k0_t37) a + S1x1x1x16x128.size a ≤ S2x2x108x128x128.size a) ∧
  (∀ k0_t37 : Fin (k0_t37_loop v228 v257).trips, ∀ (hinb : ∀ a, (k0_off665 v1 k0_t34 v228 v257 k0_t37) a + S1x1x1x16x128.size a ≤ S2x2x108x128x128.size a), (Rect.unit (s := S2x2x108x128x128) (k0_off665 v1 k0_t34 v228 v257 k0_t37) S1x1x1x16x128.size hinb).PackedRows (EltTy.packing .bf16)) ∧
  (∀ k0_t37 : Fin (k0_t37_loop v228 v257).trips, ∀ a, (k0_off666 v1 k0_t34 v228 v257 k0_t37) a + S1x1x1x32x128.size a ≤ S2x2x8x1728x128.size a) ∧
  (∀ k0_t37 : Fin (k0_t37_loop v228 v257).trips, ∀ a, (k0_off668 v1 k0_t34 v228 v257 k0_t37) a + S1x1x1x16x128.size a ≤ S2x2x108x128x128.size a) ∧
  (∀ k0_t37 : Fin (k0_t37_loop v228 v257).trips, ∀ (hinb : ∀ a, (k0_off668 v1 k0_t34 v228 v257 k0_t37) a + S1x1x1x16x128.size a ≤ S2x2x108x128x128.size a), (Rect.unit (s := S2x2x108x128x128) (k0_off668 v1 k0_t34 v228 v257 k0_t37) S1x1x1x16x128.size hinb).PackedRows (EltTy.packing .bf16)) ∧
  (∀ k0_t37 : Fin (k0_t37_loop v228 v257).trips, ∀ a, (k0_off670 v1 k0_t34 v228 v257 k0_t37) a + S1x1x1x16x128.size a ≤ S2x2x108x128x128.size a) ∧
  (∀ k0_t37 : Fin (k0_t37_loop v228 v257).trips, ∀ (hinb : ∀ a, (k0_off670 v1 k0_t34 v228 v257 k0_t37) a + S1x1x1x16x128.size a ≤ S2x2x108x128x128.size a), (Rect.unit (s := S2x2x108x128x128) (k0_off670 v1 k0_t34 v228 v257 k0_t37) S1x1x1x16x128.size hinb).PackedRows (EltTy.packing .bf16)) ∧
  (∀ k0_t37 : Fin (k0_t37_loop v228 v257).trips, ∀ a, (k0_off671 v1 k0_t34 v228 v257 k0_t37) a + S1x1x1x32x128.size a ≤ S2x2x8x1728x128.size a) ∧
  (∀ k0_t37 : Fin (k0_t37_loop v228 v257).trips, ∀ a, (k0_off673 v1 k0_t34 v228 v257 k0_t37) a + S1x1x1x16x128.size a ≤ S2x2x108x128x128.size a) ∧
  (∀ k0_t37 : Fin (k0_t37_loop v228 v257).trips, ∀ (hinb : ∀ a, (k0_off673 v1 k0_t34 v228 v257 k0_t37) a + S1x1x1x16x128.size a ≤ S2x2x108x128x128.size a), (Rect.unit (s := S2x2x108x128x128) (k0_off673 v1 k0_t34 v228 v257 k0_t37) S1x1x1x16x128.size hinb).PackedRows (EltTy.packing .bf16)) ∧
  (∀ k0_t37 : Fin (k0_t37_loop v228 v257).trips, ∀ a, (k0_off675 v1 k0_t34 v228 v257 k0_t37) a + S1x1x1x16x128.size a ≤ S2x2x108x128x128.size a) ∧
  (∀ k0_t37 : Fin (k0_t37_loop v228 v257).trips, ∀ (hinb : ∀ a, (k0_off675 v1 k0_t34 v228 v257 k0_t37) a + S1x1x1x16x128.size a ≤ S2x2x108x128x128.size a), (Rect.unit (s := S2x2x108x128x128) (k0_off675 v1 k0_t34 v228 v257 k0_t37) S1x1x1x16x128.size hinb).PackedRows (EltTy.packing .bf16)) ∧
  ((k0_t38_loop v228 v257).OK) ∧
  (∀ k0_t38 : Fin (k0_t38_loop v228 v257).trips, ∀ a, (k0_off676 v228 v257 k0_t38) a + S1x1.size a ≤ S8x128.size a) ∧
  (∀ k0_t38 : Fin (k0_t38_loop v228 v257).trips, ∀ a, (k0_off677 v228) a + S1.size a ≤ S8.size a) ∧
  (∀ k0_t38 : Fin (k0_t38_loop v228 v257).trips, 16 ∣ (k0_mult7 v228 v257 k0_t38).toNat) ∧
  (∀ k0_t38 : Fin (k0_t38_loop v228 v257).trips, ∀ a, (k0_off678 v1 k0_t34 v228 v257 k0_t38) a + S1x1x1x32x128.size a ≤ S2x2x8x1728x128.size a) ∧
  (∀ k0_t38 : Fin (k0_t38_loop v228 v257).trips, ∀ a, (k0_off680 v1 k0_t34 v228 v257 k0_t38) a + S1x1x1x16x128.size a ≤ S2x2x108x128x128.size a)
def k0_chk21_9 (v1 : BitVec 32) (k0_t34 : Fin (k0_t34_loop v1).trips) (v228 : BitVec 32) (v257 : BitVec 32) : Prop :=
  (∀ k0_t38 : Fin (k0_t38_loop v228 v257).trips, ∀ (hinb : ∀ a, (k0_off680 v1 k0_t34 v228 v257 k0_t38) a + S1x1x1x16x128.size a ≤ S2x2x108x128x128.size a), (Rect.unit (s := S2x2x108x128x128) (k0_off680 v1 k0_t34 v228 v257 k0_t38) S1x1x1x16x128.size hinb).PackedRows (EltTy.packing .bf16)) ∧
  (∀ k0_t38 : Fin (k0_t38_loop v228 v257).trips, ∀ a, (k0_off682 v1 k0_t34 v228 v257 k0_t38) a + S1x1x1x16x128.size a ≤ S2x2x108x128x128.size a) ∧
  (∀ k0_t38 : Fin (k0_t38_loop v228 v257).trips, ∀ (hinb : ∀ a, (k0_off682 v1 k0_t34 v228 v257 k0_t38) a + S1x1x1x16x128.size a ≤ S2x2x108x128x128.size a), (Rect.unit (s := S2x2x108x128x128) (k0_off682 v1 k0_t34 v228 v257 k0_t38) S1x1x1x16x128.size hinb).PackedRows (EltTy.packing .bf16)) ∧
  (∀ k0_t38 : Fin (k0_t38_loop v228 v257).trips, ∀ a, (k0_off683 v1 k0_t34 v228 v257 k0_t38) a + S1x1x1x32x128.size a ≤ S2x2x8x1728x128.size a) ∧
  (∀ k0_t38 : Fin (k0_t38_loop v228 v257).trips, ∀ a, (k0_off685 v1 k0_t34 v228 v257 k0_t38) a + S1x1x1x16x128.size a ≤ S2x2x108x128x128.size a) ∧
  (∀ k0_t38 : Fin (k0_t38_loop v228 v257).trips, ∀ (hinb : ∀ a, (k0_off685 v1 k0_t34 v228 v257 k0_t38) a + S1x1x1x16x128.size a ≤ S2x2x108x128x128.size a), (Rect.unit (s := S2x2x108x128x128) (k0_off685 v1 k0_t34 v228 v257 k0_t38) S1x1x1x16x128.size hinb).PackedRows (EltTy.packing .bf16)) ∧
  (∀ k0_t38 : Fin (k0_t38_loop v228 v257).trips, ∀ a, (k0_off687 v1 k0_t34 v228 v257 k0_t38) a + S1x1x1x16x128.size a ≤ S2x2x108x128x128.size a) ∧
  (∀ k0_t38 : Fin (k0_t38_loop v228 v257).trips, ∀ (hinb : ∀ a, (k0_off687 v1 k0_t34 v228 v257 k0_t38) a + S1x1x1x16x128.size a ≤ S2x2x108x128x128.size a), (Rect.unit (s := S2x2x108x128x128) (k0_off687 v1 k0_t34 v228 v257 k0_t38) S1x1x1x16x128.size hinb).PackedRows (EltTy.packing .bf16)) ∧
  (∀ k0_t38 : Fin (k0_t38_loop v228 v257).trips, ∀ a, (k0_off688 v1 k0_t34 v228 v257 k0_t38) a + S1x1x1x32x128.size a ≤ S2x2x8x1728x128.size a) ∧
  (∀ k0_t38 : Fin (k0_t38_loop v228 v257).trips, ∀ a, (k0_off690 v1 k0_t34 v228 v257 k0_t38) a + S1x1x1x16x128.size a ≤ S2x2x108x128x128.size a) ∧
  (∀ k0_t38 : Fin (k0_t38_loop v228 v257).trips, ∀ (hinb : ∀ a, (k0_off690 v1 k0_t34 v228 v257 k0_t38) a + S1x1x1x16x128.size a ≤ S2x2x108x128x128.size a), (Rect.unit (s := S2x2x108x128x128) (k0_off690 v1 k0_t34 v228 v257 k0_t38) S1x1x1x16x128.size hinb).PackedRows (EltTy.packing .bf16)) ∧
  (∀ k0_t38 : Fin (k0_t38_loop v228 v257).trips, ∀ a, (k0_off692 v1 k0_t34 v228 v257 k0_t38) a + S1x1x1x16x128.size a ≤ S2x2x108x128x128.size a) ∧
  (∀ k0_t38 : Fin (k0_t38_loop v228 v257).trips, ∀ (hinb : ∀ a, (k0_off692 v1 k0_t34 v228 v257 k0_t38) a + S1x1x1x16x128.size a ≤ S2x2x108x128x128.size a), (Rect.unit (s := S2x2x108x128x128) (k0_off692 v1 k0_t34 v228 v257 k0_t38) S1x1x1x16x128.size hinb).PackedRows (EltTy.packing .bf16)) ∧
  (∀ k0_t38 : Fin (k0_t38_loop v228 v257).trips, ∀ a, (k0_off693 v1 k0_t34 v228 v257 k0_t38) a + S1x1x1x32x128.size a ≤ S2x2x8x1728x128.size a) ∧
  (∀ k0_t38 : Fin (k0_t38_loop v228 v257).trips, ∀ a, (k0_off695 v1 k0_t34 v228 v257 k0_t38) a + S1x1x1x16x128.size a ≤ S2x2x108x128x128.size a) ∧
  (∀ k0_t38 : Fin (k0_t38_loop v228 v257).trips, ∀ (hinb : ∀ a, (k0_off695 v1 k0_t34 v228 v257 k0_t38) a + S1x1x1x16x128.size a ≤ S2x2x108x128x128.size a), (Rect.unit (s := S2x2x108x128x128) (k0_off695 v1 k0_t34 v228 v257 k0_t38) S1x1x1x16x128.size hinb).PackedRows (EltTy.packing .bf16)) ∧
  (∀ k0_t38 : Fin (k0_t38_loop v228 v257).trips, ∀ a, (k0_off697 v1 k0_t34 v228 v257 k0_t38) a + S1x1x1x16x128.size a ≤ S2x2x108x128x128.size a) ∧
  (∀ k0_t38 : Fin (k0_t38_loop v228 v257).trips, ∀ (hinb : ∀ a, (k0_off697 v1 k0_t34 v228 v257 k0_t38) a + S1x1x1x16x128.size a ≤ S2x2x108x128x128.size a), (Rect.unit (s := S2x2x108x128x128) (k0_off697 v1 k0_t34 v228 v257 k0_t38) S1x1x1x16x128.size hinb).PackedRows (EltTy.packing .bf16)) ∧
  (∀ k0_t38 : Fin (k0_t38_loop v228 v257).trips, ∀ a, (k0_off698 v1 k0_t34 v228 v257 k0_t38) a + S1x1x1x32x128.size a ≤ S2x2x8x1728x128.size a) ∧
  (∀ k0_t38 : Fin (k0_t38_loop v228 v257).trips, ∀ a, (k0_off700 v1 k0_t34 v228 v257 k0_t38) a + S1x1x1x16x128.size a ≤ S2x2x108x128x128.size a) ∧
  (∀ k0_t38 : Fin (k0_t38_loop v228 v257).trips, ∀ (hinb : ∀ a, (k0_off700 v1 k0_t34 v228 v257 k0_t38) a + S1x1x1x16x128.size a ≤ S2x2x108x128x128.size a), (Rect.unit (s := S2x2x108x128x128) (k0_off700 v1 k0_t34 v228 v257 k0_t38) S1x1x1x16x128.size hinb).PackedRows (EltTy.packing .bf16)) ∧
  (∀ k0_t38 : Fin (k0_t38_loop v228 v257).trips, ∀ a, (k0_off702 v1 k0_t34 v228 v257 k0_t38) a + S1x1x1x16x128.size a ≤ S2x2x108x128x128.size a) ∧
  (∀ k0_t38 : Fin (k0_t38_loop v228 v257).trips, ∀ (hinb : ∀ a, (k0_off702 v1 k0_t34 v228 v257 k0_t38) a + S1x1x1x16x128.size a ≤ S2x2x108x128x128.size a), (Rect.unit (s := S2x2x108x128x128) (k0_off702 v1 k0_t34 v228 v257 k0_t38) S1x1x1x16x128.size hinb).PackedRows (EltTy.packing .bf16)) ∧
  (∀ k0_t38 : Fin (k0_t38_loop v228 v257).trips, ∀ a, (k0_off703 v1 k0_t34 v228 v257 k0_t38) a + S1x1x1x32x128.size a ≤ S2x2x8x1728x128.size a) ∧
  (∀ k0_t38 : Fin (k0_t38_loop v228 v257).trips, ∀ a, (k0_off705 v1 k0_t34 v228 v257 k0_t38) a + S1x1x1x16x128.size a ≤ S2x2x108x128x128.size a) ∧
  (∀ k0_t38 : Fin (k0_t38_loop v228 v257).trips, ∀ (hinb : ∀ a, (k0_off705 v1 k0_t34 v228 v257 k0_t38) a + S1x1x1x16x128.size a ≤ S2x2x108x128x128.size a), (Rect.unit (s := S2x2x108x128x128) (k0_off705 v1 k0_t34 v228 v257 k0_t38) S1x1x1x16x128.size hinb).PackedRows (EltTy.packing .bf16)) ∧
  (∀ k0_t38 : Fin (k0_t38_loop v228 v257).trips, ∀ a, (k0_off707 v1 k0_t34 v228 v257 k0_t38) a + S1x1x1x16x128.size a ≤ S2x2x108x128x128.size a) ∧
  (∀ k0_t38 : Fin (k0_t38_loop v228 v257).trips, ∀ (hinb : ∀ a, (k0_off707 v1 k0_t34 v228 v257 k0_t38) a + S1x1x1x16x128.size a ≤ S2x2x108x128x128.size a), (Rect.unit (s := S2x2x108x128x128) (k0_off707 v1 k0_t34 v228 v257 k0_t38) S1x1x1x16x128.size hinb).PackedRows (EltTy.packing .bf16)) ∧
  (∀ k0_t38 : Fin (k0_t38_loop v228 v257).trips, ∀ a, (k0_off708 v1 k0_t34 v228 v257 k0_t38) a + S1x1x1x32x128.size a ≤ S2x2x8x1728x128.size a) ∧
  (∀ k0_t38 : Fin (k0_t38_loop v228 v257).trips, ∀ a, (k0_off710 v1 k0_t34 v228 v257 k0_t38) a + S1x1x1x16x128.size a ≤ S2x2x108x128x128.size a) ∧
  (∀ k0_t38 : Fin (k0_t38_loop v228 v257).trips, ∀ (hinb : ∀ a, (k0_off710 v1 k0_t34 v228 v257 k0_t38) a + S1x1x1x16x128.size a ≤ S2x2x108x128x128.size a), (Rect.unit (s := S2x2x108x128x128) (k0_off710 v1 k0_t34 v228 v257 k0_t38) S1x1x1x16x128.size hinb).PackedRows (EltTy.packing .bf16)) ∧
  (∀ k0_t38 : Fin (k0_t38_loop v228 v257).trips, ∀ a, (k0_off712 v1 k0_t34 v228 v257 k0_t38) a + S1x1x1x16x128.size a ≤ S2x2x108x128x128.size a)
def k0_chk21_10 (v1 : BitVec 32) (k0_t34 : Fin (k0_t34_loop v1).trips) (v228 : BitVec 32) (v257 : BitVec 32) : Prop :=
  (∀ k0_t38 : Fin (k0_t38_loop v228 v257).trips, ∀ (hinb : ∀ a, (k0_off712 v1 k0_t34 v228 v257 k0_t38) a + S1x1x1x16x128.size a ≤ S2x2x108x128x128.size a), (Rect.unit (s := S2x2x108x128x128) (k0_off712 v1 k0_t34 v228 v257 k0_t38) S1x1x1x16x128.size hinb).PackedRows (EltTy.packing .bf16)) ∧
  (∀ k0_t38 : Fin (k0_t38_loop v228 v257).trips, ∀ a, (k0_off713 v1 k0_t34 v228 v257 k0_t38) a + S1x1x1x32x128.size a ≤ S2x2x8x1728x128.size a) ∧
  (∀ k0_t38 : Fin (k0_t38_loop v228 v257).trips, ∀ a, (k0_off715 v1 k0_t34 v228 v257 k0_t38) a + S1x1x1x16x128.size a ≤ S2x2x108x128x128.size a) ∧
  (∀ k0_t38 : Fin (k0_t38_loop v228 v257).trips, ∀ (hinb : ∀ a, (k0_off715 v1 k0_t34 v228 v257 k0_t38) a + S1x1x1x16x128.size a ≤ S2x2x108x128x128.size a), (Rect.unit (s := S2x2x108x128x128) (k0_off715 v1 k0_t34 v228 v257 k0_t38) S1x1x1x16x128.size hinb).PackedRows (EltTy.packing .bf16)) ∧
  (∀ k0_t38 : Fin (k0_t38_loop v228 v257).trips, ∀ a, (k0_off717 v1 k0_t34 v228 v257 k0_t38) a + S1x1x1x16x128.size a ≤ S2x2x108x128x128.size a) ∧
  (∀ k0_t38 : Fin (k0_t38_loop v228 v257).trips, ∀ (hinb : ∀ a, (k0_off717 v1 k0_t34 v228 v257 k0_t38) a + S1x1x1x16x128.size a ≤ S2x2x108x128x128.size a), (Rect.unit (s := S2x2x108x128x128) (k0_off717 v1 k0_t34 v228 v257 k0_t38) S1x1x1x16x128.size hinb).PackedRows (EltTy.packing .bf16)) ∧
  (∀ k0_t38 : Fin (k0_t38_loop v228 v257).trips, ∀ a, (k0_off718 v1 k0_t34 v228 v257 k0_t38) a + S1x1x1x32x128.size a ≤ S2x2x8x1728x128.size a) ∧
  (∀ k0_t38 : Fin (k0_t38_loop v228 v257).trips, ∀ a, (k0_off720 v1 k0_t34 v228 v257 k0_t38) a + S1x1x1x16x128.size a ≤ S2x2x108x128x128.size a) ∧
  (∀ k0_t38 : Fin (k0_t38_loop v228 v257).trips, ∀ (hinb : ∀ a, (k0_off720 v1 k0_t34 v228 v257 k0_t38) a + S1x1x1x16x128.size a ≤ S2x2x108x128x128.size a), (Rect.unit (s := S2x2x108x128x128) (k0_off720 v1 k0_t34 v228 v257 k0_t38) S1x1x1x16x128.size hinb).PackedRows (EltTy.packing .bf16)) ∧
  (∀ k0_t38 : Fin (k0_t38_loop v228 v257).trips, ∀ a, (k0_off722 v1 k0_t34 v228 v257 k0_t38) a + S1x1x1x16x128.size a ≤ S2x2x108x128x128.size a) ∧
  (∀ k0_t38 : Fin (k0_t38_loop v228 v257).trips, ∀ (hinb : ∀ a, (k0_off722 v1 k0_t34 v228 v257 k0_t38) a + S1x1x1x16x128.size a ≤ S2x2x108x128x128.size a), (Rect.unit (s := S2x2x108x128x128) (k0_off722 v1 k0_t34 v228 v257 k0_t38) S1x1x1x16x128.size hinb).PackedRows (EltTy.packing .bf16)) ∧
  (∀ k0_t38 : Fin (k0_t38_loop v228 v257).trips, ∀ a, (k0_off723 v1 k0_t34 v228 v257 k0_t38) a + S1x1x1x32x128.size a ≤ S2x2x8x1728x128.size a) ∧
  (∀ k0_t38 : Fin (k0_t38_loop v228 v257).trips, ∀ a, (k0_off725 v1 k0_t34 v228 v257 k0_t38) a + S1x1x1x16x128.size a ≤ S2x2x108x128x128.size a) ∧
  (∀ k0_t38 : Fin (k0_t38_loop v228 v257).trips, ∀ (hinb : ∀ a, (k0_off725 v1 k0_t34 v228 v257 k0_t38) a + S1x1x1x16x128.size a ≤ S2x2x108x128x128.size a), (Rect.unit (s := S2x2x108x128x128) (k0_off725 v1 k0_t34 v228 v257 k0_t38) S1x1x1x16x128.size hinb).PackedRows (EltTy.packing .bf16)) ∧
  (∀ k0_t38 : Fin (k0_t38_loop v228 v257).trips, ∀ a, (k0_off727 v1 k0_t34 v228 v257 k0_t38) a + S1x1x1x16x128.size a ≤ S2x2x108x128x128.size a) ∧
  (∀ k0_t38 : Fin (k0_t38_loop v228 v257).trips, ∀ (hinb : ∀ a, (k0_off727 v1 k0_t34 v228 v257 k0_t38) a + S1x1x1x16x128.size a ≤ S2x2x108x128x128.size a), (Rect.unit (s := S2x2x108x128x128) (k0_off727 v1 k0_t34 v228 v257 k0_t38) S1x1x1x16x128.size hinb).PackedRows (EltTy.packing .bf16)) ∧
  (∀ k0_t38 : Fin (k0_t38_loop v228 v257).trips, ∀ a, (k0_off728 v1 k0_t34 v228 v257 k0_t38) a + S1x1x1x32x128.size a ≤ S2x2x8x1728x128.size a) ∧
  (∀ k0_t38 : Fin (k0_t38_loop v228 v257).trips, ∀ a, (k0_off730 v1 k0_t34 v228 v257 k0_t38) a + S1x1x1x16x128.size a ≤ S2x2x108x128x128.size a) ∧
  (∀ k0_t38 : Fin (k0_t38_loop v228 v257).trips, ∀ (hinb : ∀ a, (k0_off730 v1 k0_t34 v228 v257 k0_t38) a + S1x1x1x16x128.size a ≤ S2x2x108x128x128.size a), (Rect.unit (s := S2x2x108x128x128) (k0_off730 v1 k0_t34 v228 v257 k0_t38) S1x1x1x16x128.size hinb).PackedRows (EltTy.packing .bf16)) ∧
  (∀ k0_t38 : Fin (k0_t38_loop v228 v257).trips, ∀ a, (k0_off732 v1 k0_t34 v228 v257 k0_t38) a + S1x1x1x16x128.size a ≤ S2x2x108x128x128.size a) ∧
  (∀ k0_t38 : Fin (k0_t38_loop v228 v257).trips, ∀ (hinb : ∀ a, (k0_off732 v1 k0_t34 v228 v257 k0_t38) a + S1x1x1x16x128.size a ≤ S2x2x108x128x128.size a), (Rect.unit (s := S2x2x108x128x128) (k0_off732 v1 k0_t34 v228 v257 k0_t38) S1x1x1x16x128.size hinb).PackedRows (EltTy.packing .bf16)) ∧
  (∀ k0_t38 : Fin (k0_t38_loop v228 v257).trips, ∀ a, (k0_off733 v1 k0_t34 v228 v257 k0_t38) a + S1x1x1x32x128.size a ≤ S2x2x8x1728x128.size a) ∧
  (∀ k0_t38 : Fin (k0_t38_loop v228 v257).trips, ∀ a, (k0_off735 v1 k0_t34 v228 v257 k0_t38) a + S1x1x1x16x128.size a ≤ S2x2x108x128x128.size a) ∧
  (∀ k0_t38 : Fin (k0_t38_loop v228 v257).trips, ∀ (hinb : ∀ a, (k0_off735 v1 k0_t34 v228 v257 k0_t38) a + S1x1x1x16x128.size a ≤ S2x2x108x128x128.size a), (Rect.unit (s := S2x2x108x128x128) (k0_off735 v1 k0_t34 v228 v257 k0_t38) S1x1x1x16x128.size hinb).PackedRows (EltTy.packing .bf16)) ∧
  (∀ k0_t38 : Fin (k0_t38_loop v228 v257).trips, ∀ a, (k0_off737 v1 k0_t34 v228 v257 k0_t38) a + S1x1x1x16x128.size a ≤ S2x2x108x128x128.size a) ∧
  (∀ k0_t38 : Fin (k0_t38_loop v228 v257).trips, ∀ (hinb : ∀ a, (k0_off737 v1 k0_t34 v228 v257 k0_t38) a + S1x1x1x16x128.size a ≤ S2x2x108x128x128.size a), (Rect.unit (s := S2x2x108x128x128) (k0_off737 v1 k0_t34 v228 v257 k0_t38) S1x1x1x16x128.size hinb).PackedRows (EltTy.packing .bf16)) ∧
  (∀ k0_t38 : Fin (k0_t38_loop v228 v257).trips, ∀ a, (k0_off738 v1 k0_t34 v228 v257 k0_t38) a + S1x1x1x32x128.size a ≤ S2x2x8x1728x128.size a) ∧
  (∀ k0_t38 : Fin (k0_t38_loop v228 v257).trips, ∀ a, (k0_off740 v1 k0_t34 v228 v257 k0_t38) a + S1x1x1x16x128.size a ≤ S2x2x108x128x128.size a) ∧
  (∀ k0_t38 : Fin (k0_t38_loop v228 v257).trips, ∀ (hinb : ∀ a, (k0_off740 v1 k0_t34 v228 v257 k0_t38) a + S1x1x1x16x128.size a ≤ S2x2x108x128x128.size a), (Rect.unit (s := S2x2x108x128x128) (k0_off740 v1 k0_t34 v228 v257 k0_t38) S1x1x1x16x128.size hinb).PackedRows (EltTy.packing .bf16)) ∧
  (∀ k0_t38 : Fin (k0_t38_loop v228 v257).trips, ∀ a, (k0_off742 v1 k0_t34 v228 v257 k0_t38) a + S1x1x1x16x128.size a ≤ S2x2x108x128x128.size a) ∧
  (∀ k0_t38 : Fin (k0_t38_loop v228 v257).trips, ∀ (hinb : ∀ a, (k0_off742 v1 k0_t34 v228 v257 k0_t38) a + S1x1x1x16x128.size a ≤ S2x2x108x128x128.size a), (Rect.unit (s := S2x2x108x128x128) (k0_off742 v1 k0_t34 v228 v257 k0_t38) S1x1x1x16x128.size hinb).PackedRows (EltTy.packing .bf16)) ∧
  (∀ k0_t38 : Fin (k0_t38_loop v228 v257).trips, ∀ a, (k0_off743 v1 k0_t34 v228 v257 k0_t38) a + S1x1x1x32x128.size a ≤ S2x2x8x1728x128.size a)
def k0_chk21_11 (v1 : BitVec 32) (k0_t34 : Fin (k0_t34_loop v1).trips) (v228 : BitVec 32) (v257 : BitVec 32) : Prop :=
  (∀ k0_t38 : Fin (k0_t38_loop v228 v257).trips, ∀ a, (k0_off745 v1 k0_t34 v228 v257 k0_t38) a + S1x1x1x16x128.size a ≤ S2x2x108x128x128.size a) ∧
  (∀ k0_t38 : Fin (k0_t38_loop v228 v257).trips, ∀ (hinb : ∀ a, (k0_off745 v1 k0_t34 v228 v257 k0_t38) a + S1x1x1x16x128.size a ≤ S2x2x108x128x128.size a), (Rect.unit (s := S2x2x108x128x128) (k0_off745 v1 k0_t34 v228 v257 k0_t38) S1x1x1x16x128.size hinb).PackedRows (EltTy.packing .bf16)) ∧
  (∀ k0_t38 : Fin (k0_t38_loop v228 v257).trips, ∀ a, (k0_off747 v1 k0_t34 v228 v257 k0_t38) a + S1x1x1x16x128.size a ≤ S2x2x108x128x128.size a) ∧
  (∀ k0_t38 : Fin (k0_t38_loop v228 v257).trips, ∀ (hinb : ∀ a, (k0_off747 v1 k0_t34 v228 v257 k0_t38) a + S1x1x1x16x128.size a ≤ S2x2x108x128x128.size a), (Rect.unit (s := S2x2x108x128x128) (k0_off747 v1 k0_t34 v228 v257 k0_t38) S1x1x1x16x128.size hinb).PackedRows (EltTy.packing .bf16)) ∧
  (∀ k0_t38 : Fin (k0_t38_loop v228 v257).trips, ∀ a, (k0_off748 v1 k0_t34 v228 v257 k0_t38) a + S1x1x1x32x128.size a ≤ S2x2x8x1728x128.size a) ∧
  (∀ k0_t38 : Fin (k0_t38_loop v228 v257).trips, ∀ a, (k0_off750 v1 k0_t34 v228 v257 k0_t38) a + S1x1x1x16x128.size a ≤ S2x2x108x128x128.size a) ∧
  (∀ k0_t38 : Fin (k0_t38_loop v228 v257).trips, ∀ (hinb : ∀ a, (k0_off750 v1 k0_t34 v228 v257 k0_t38) a + S1x1x1x16x128.size a ≤ S2x2x108x128x128.size a), (Rect.unit (s := S2x2x108x128x128) (k0_off750 v1 k0_t34 v228 v257 k0_t38) S1x1x1x16x128.size hinb).PackedRows (EltTy.packing .bf16)) ∧
  (∀ k0_t38 : Fin (k0_t38_loop v228 v257).trips, ∀ a, (k0_off752 v1 k0_t34 v228 v257 k0_t38) a + S1x1x1x16x128.size a ≤ S2x2x108x128x128.size a) ∧
  (∀ k0_t38 : Fin (k0_t38_loop v228 v257).trips, ∀ (hinb : ∀ a, (k0_off752 v1 k0_t34 v228 v257 k0_t38) a + S1x1x1x16x128.size a ≤ S2x2x108x128x128.size a), (Rect.unit (s := S2x2x108x128x128) (k0_off752 v1 k0_t34 v228 v257 k0_t38) S1x1x1x16x128.size hinb).PackedRows (EltTy.packing .bf16)) ∧
  (∀ k0_t38 : Fin (k0_t38_loop v228 v257).trips, ∀ a, (k0_off753 v1 k0_t34 v228 v257 k0_t38) a + S1x1x1x32x128.size a ≤ S2x2x8x1728x128.size a) ∧
  (∀ k0_t38 : Fin (k0_t38_loop v228 v257).trips, ∀ a, (k0_off755 v1 k0_t34 v228 v257 k0_t38) a + S1x1x1x16x128.size a ≤ S2x2x108x128x128.size a) ∧
  (∀ k0_t38 : Fin (k0_t38_loop v228 v257).trips, ∀ (hinb : ∀ a, (k0_off755 v1 k0_t34 v228 v257 k0_t38) a + S1x1x1x16x128.size a ≤ S2x2x108x128x128.size a), (Rect.unit (s := S2x2x108x128x128) (k0_off755 v1 k0_t34 v228 v257 k0_t38) S1x1x1x16x128.size hinb).PackedRows (EltTy.packing .bf16)) ∧
  (∀ k0_t38 : Fin (k0_t38_loop v228 v257).trips, ∀ a, (k0_off757 v1 k0_t34 v228 v257 k0_t38) a + S1x1x1x16x128.size a ≤ S2x2x108x128x128.size a) ∧
  (∀ k0_t38 : Fin (k0_t38_loop v228 v257).trips, ∀ (hinb : ∀ a, (k0_off757 v1 k0_t34 v228 v257 k0_t38) a + S1x1x1x16x128.size a ≤ S2x2x108x128x128.size a), (Rect.unit (s := S2x2x108x128x128) (k0_off757 v1 k0_t34 v228 v257 k0_t38) S1x1x1x16x128.size hinb).PackedRows (EltTy.packing .bf16)) ∧
  (∀ k0_t38 : Fin (k0_t38_loop v228 v257).trips, ∀ a, (k0_off758 v1 k0_t34 v228 v257 k0_t38) a + S1x1x1x32x128.size a ≤ S2x2x8x1728x128.size a) ∧
  (∀ k0_t38 : Fin (k0_t38_loop v228 v257).trips, ∀ a, (k0_off760 v1 k0_t34 v228 v257 k0_t38) a + S1x1x1x16x128.size a ≤ S2x2x108x128x128.size a) ∧
  (∀ k0_t38 : Fin (k0_t38_loop v228 v257).trips, ∀ (hinb : ∀ a, (k0_off760 v1 k0_t34 v228 v257 k0_t38) a + S1x1x1x16x128.size a ≤ S2x2x108x128x128.size a), (Rect.unit (s := S2x2x108x128x128) (k0_off760 v1 k0_t34 v228 v257 k0_t38) S1x1x1x16x128.size hinb).PackedRows (EltTy.packing .bf16)) ∧
  (∀ k0_t38 : Fin (k0_t38_loop v228 v257).trips, ∀ a, (k0_off762 v1 k0_t34 v228 v257 k0_t38) a + S1x1x1x16x128.size a ≤ S2x2x108x128x128.size a) ∧
  (∀ k0_t38 : Fin (k0_t38_loop v228 v257).trips, ∀ (hinb : ∀ a, (k0_off762 v1 k0_t34 v228 v257 k0_t38) a + S1x1x1x16x128.size a ≤ S2x2x108x128x128.size a), (Rect.unit (s := S2x2x108x128x128) (k0_off762 v1 k0_t34 v228 v257 k0_t38) S1x1x1x16x128.size hinb).PackedRows (EltTy.packing .bf16)) ∧
  (∀ k0_t38 : Fin (k0_t38_loop v228 v257).trips, ∀ a, (k0_off763 v1 k0_t34 v228 v257 k0_t38) a + S1x1x1x32x128.size a ≤ S2x2x8x1728x128.size a) ∧
  (∀ k0_t38 : Fin (k0_t38_loop v228 v257).trips, ∀ a, (k0_off765 v1 k0_t34 v228 v257 k0_t38) a + S1x1x1x16x128.size a ≤ S2x2x108x128x128.size a) ∧
  (∀ k0_t38 : Fin (k0_t38_loop v228 v257).trips, ∀ (hinb : ∀ a, (k0_off765 v1 k0_t34 v228 v257 k0_t38) a + S1x1x1x16x128.size a ≤ S2x2x108x128x128.size a), (Rect.unit (s := S2x2x108x128x128) (k0_off765 v1 k0_t34 v228 v257 k0_t38) S1x1x1x16x128.size hinb).PackedRows (EltTy.packing .bf16)) ∧
  (∀ k0_t38 : Fin (k0_t38_loop v228 v257).trips, ∀ a, (k0_off767 v1 k0_t34 v228 v257 k0_t38) a + S1x1x1x16x128.size a ≤ S2x2x108x128x128.size a) ∧
  (∀ k0_t38 : Fin (k0_t38_loop v228 v257).trips, ∀ (hinb : ∀ a, (k0_off767 v1 k0_t34 v228 v257 k0_t38) a + S1x1x1x16x128.size a ≤ S2x2x108x128x128.size a), (Rect.unit (s := S2x2x108x128x128) (k0_off767 v1 k0_t34 v228 v257 k0_t38) S1x1x1x16x128.size hinb).PackedRows (EltTy.packing .bf16)) ∧
  (∀ k0_t38 : Fin (k0_t38_loop v228 v257).trips, ∀ a, (k0_off768 v1 k0_t34 v228 v257 k0_t38) a + S1x1x1x32x128.size a ≤ S2x2x8x1728x128.size a) ∧
  (∀ k0_t38 : Fin (k0_t38_loop v228 v257).trips, ∀ a, (k0_off770 v1 k0_t34 v228 v257 k0_t38) a + S1x1x1x16x128.size a ≤ S2x2x108x128x128.size a) ∧
  (∀ k0_t38 : Fin (k0_t38_loop v228 v257).trips, ∀ (hinb : ∀ a, (k0_off770 v1 k0_t34 v228 v257 k0_t38) a + S1x1x1x16x128.size a ≤ S2x2x108x128x128.size a), (Rect.unit (s := S2x2x108x128x128) (k0_off770 v1 k0_t34 v228 v257 k0_t38) S1x1x1x16x128.size hinb).PackedRows (EltTy.packing .bf16)) ∧
  (∀ k0_t38 : Fin (k0_t38_loop v228 v257).trips, ∀ a, (k0_off772 v1 k0_t34 v228 v257 k0_t38) a + S1x1x1x16x128.size a ≤ S2x2x108x128x128.size a) ∧
  (∀ k0_t38 : Fin (k0_t38_loop v228 v257).trips, ∀ (hinb : ∀ a, (k0_off772 v1 k0_t34 v228 v257 k0_t38) a + S1x1x1x16x128.size a ≤ S2x2x108x128x128.size a), (Rect.unit (s := S2x2x108x128x128) (k0_off772 v1 k0_t34 v228 v257 k0_t38) S1x1x1x16x128.size hinb).PackedRows (EltTy.packing .bf16)) ∧
  (∀ k0_t38 : Fin (k0_t38_loop v228 v257).trips, ∀ a, (k0_off773 v1 k0_t34 v228 v257 k0_t38) a + S1x1x1x32x128.size a ≤ S2x2x8x1728x128.size a) ∧
  (∀ k0_t38 : Fin (k0_t38_loop v228 v257).trips, ∀ a, (k0_off775 v1 k0_t34 v228 v257 k0_t38) a + S1x1x1x16x128.size a ≤ S2x2x108x128x128.size a) ∧
  (∀ k0_t38 : Fin (k0_t38_loop v228 v257).trips, ∀ (hinb : ∀ a, (k0_off775 v1 k0_t34 v228 v257 k0_t38) a + S1x1x1x16x128.size a ≤ S2x2x108x128x128.size a), (Rect.unit (s := S2x2x108x128x128) (k0_off775 v1 k0_t34 v228 v257 k0_t38) S1x1x1x16x128.size hinb).PackedRows (EltTy.packing .bf16))
def k0_chk21_12 (v1 : BitVec 32) (k0_t34 : Fin (k0_t34_loop v1).trips) (v228 : BitVec 32) (v257 : BitVec 32) : Prop :=
  (∀ k0_t38 : Fin (k0_t38_loop v228 v257).trips, ∀ a, (k0_off777 v1 k0_t34 v228 v257 k0_t38) a + S1x1x1x16x128.size a ≤ S2x2x108x128x128.size a) ∧
  (∀ k0_t38 : Fin (k0_t38_loop v228 v257).trips, ∀ (hinb : ∀ a, (k0_off777 v1 k0_t34 v228 v257 k0_t38) a + S1x1x1x16x128.size a ≤ S2x2x108x128x128.size a), (Rect.unit (s := S2x2x108x128x128) (k0_off777 v1 k0_t34 v228 v257 k0_t38) S1x1x1x16x128.size hinb).PackedRows (EltTy.packing .bf16)) ∧
  (∀ k0_t38 : Fin (k0_t38_loop v228 v257).trips, ∀ a, (k0_off778 v1 k0_t34 v228 v257 k0_t38) a + S1x1x1x32x128.size a ≤ S2x2x8x1728x128.size a) ∧
  (∀ k0_t38 : Fin (k0_t38_loop v228 v257).trips, ∀ a, (k0_off780 v1 k0_t34 v228 v257 k0_t38) a + S1x1x1x16x128.size a ≤ S2x2x108x128x128.size a) ∧
  (∀ k0_t38 : Fin (k0_t38_loop v228 v257).trips, ∀ (hinb : ∀ a, (k0_off780 v1 k0_t34 v228 v257 k0_t38) a + S1x1x1x16x128.size a ≤ S2x2x108x128x128.size a), (Rect.unit (s := S2x2x108x128x128) (k0_off780 v1 k0_t34 v228 v257 k0_t38) S1x1x1x16x128.size hinb).PackedRows (EltTy.packing .bf16)) ∧
  (∀ k0_t38 : Fin (k0_t38_loop v228 v257).trips, ∀ a, (k0_off782 v1 k0_t34 v228 v257 k0_t38) a + S1x1x1x16x128.size a ≤ S2x2x108x128x128.size a) ∧
  (∀ k0_t38 : Fin (k0_t38_loop v228 v257).trips, ∀ (hinb : ∀ a, (k0_off782 v1 k0_t34 v228 v257 k0_t38) a + S1x1x1x16x128.size a ≤ S2x2x108x128x128.size a), (Rect.unit (s := S2x2x108x128x128) (k0_off782 v1 k0_t34 v228 v257 k0_t38) S1x1x1x16x128.size hinb).PackedRows (EltTy.packing .bf16)) ∧
  (∀ k0_t38 : Fin (k0_t38_loop v228 v257).trips, ∀ a, (k0_off783 v1 k0_t34 v228 v257 k0_t38) a + S1x1x1x32x128.size a ≤ S2x2x8x1728x128.size a) ∧
  (∀ k0_t38 : Fin (k0_t38_loop v228 v257).trips, ∀ a, (k0_off785 v1 k0_t34 v228 v257 k0_t38) a + S1x1x1x16x128.size a ≤ S2x2x108x128x128.size a) ∧
  (∀ k0_t38 : Fin (k0_t38_loop v228 v257).trips, ∀ (hinb : ∀ a, (k0_off785 v1 k0_t34 v228 v257 k0_t38) a + S1x1x1x16x128.size a ≤ S2x2x108x128x128.size a), (Rect.unit (s := S2x2x108x128x128) (k0_off785 v1 k0_t34 v228 v257 k0_t38) S1x1x1x16x128.size hinb).PackedRows (EltTy.packing .bf16)) ∧
  (∀ k0_t38 : Fin (k0_t38_loop v228 v257).trips, ∀ a, (k0_off787 v1 k0_t34 v228 v257 k0_t38) a + S1x1x1x16x128.size a ≤ S2x2x108x128x128.size a) ∧
  (∀ k0_t38 : Fin (k0_t38_loop v228 v257).trips, ∀ (hinb : ∀ a, (k0_off787 v1 k0_t34 v228 v257 k0_t38) a + S1x1x1x16x128.size a ≤ S2x2x108x128x128.size a), (Rect.unit (s := S2x2x108x128x128) (k0_off787 v1 k0_t34 v228 v257 k0_t38) S1x1x1x16x128.size hinb).PackedRows (EltTy.packing .bf16)) ∧
  (∀ k0_t38 : Fin (k0_t38_loop v228 v257).trips, ∀ a, (k0_off788 v1 k0_t34 v228 v257 k0_t38) a + S1x1x1x32x128.size a ≤ S2x2x8x1728x128.size a) ∧
  (∀ k0_t38 : Fin (k0_t38_loop v228 v257).trips, ∀ a, (k0_off790 v1 k0_t34 v228 v257 k0_t38) a + S1x1x1x16x128.size a ≤ S2x2x108x128x128.size a) ∧
  (∀ k0_t38 : Fin (k0_t38_loop v228 v257).trips, ∀ (hinb : ∀ a, (k0_off790 v1 k0_t34 v228 v257 k0_t38) a + S1x1x1x16x128.size a ≤ S2x2x108x128x128.size a), (Rect.unit (s := S2x2x108x128x128) (k0_off790 v1 k0_t34 v228 v257 k0_t38) S1x1x1x16x128.size hinb).PackedRows (EltTy.packing .bf16)) ∧
  (∀ k0_t38 : Fin (k0_t38_loop v228 v257).trips, ∀ a, (k0_off792 v1 k0_t34 v228 v257 k0_t38) a + S1x1x1x16x128.size a ≤ S2x2x108x128x128.size a) ∧
  (∀ k0_t38 : Fin (k0_t38_loop v228 v257).trips, ∀ (hinb : ∀ a, (k0_off792 v1 k0_t34 v228 v257 k0_t38) a + S1x1x1x16x128.size a ≤ S2x2x108x128x128.size a), (Rect.unit (s := S2x2x108x128x128) (k0_off792 v1 k0_t34 v228 v257 k0_t38) S1x1x1x16x128.size hinb).PackedRows (EltTy.packing .bf16)) ∧
  (∀ k0_t38 : Fin (k0_t38_loop v228 v257).trips, ∀ a, (k0_off793 v1 k0_t34 v228 v257 k0_t38) a + S1x1x1x32x128.size a ≤ S2x2x8x1728x128.size a) ∧
  (∀ k0_t38 : Fin (k0_t38_loop v228 v257).trips, ∀ a, (k0_off795 v1 k0_t34 v228 v257 k0_t38) a + S1x1x1x16x128.size a ≤ S2x2x108x128x128.size a) ∧
  (∀ k0_t38 : Fin (k0_t38_loop v228 v257).trips, ∀ (hinb : ∀ a, (k0_off795 v1 k0_t34 v228 v257 k0_t38) a + S1x1x1x16x128.size a ≤ S2x2x108x128x128.size a), (Rect.unit (s := S2x2x108x128x128) (k0_off795 v1 k0_t34 v228 v257 k0_t38) S1x1x1x16x128.size hinb).PackedRows (EltTy.packing .bf16)) ∧
  (∀ k0_t38 : Fin (k0_t38_loop v228 v257).trips, ∀ a, (k0_off797 v1 k0_t34 v228 v257 k0_t38) a + S1x1x1x16x128.size a ≤ S2x2x108x128x128.size a) ∧
  (∀ k0_t38 : Fin (k0_t38_loop v228 v257).trips, ∀ (hinb : ∀ a, (k0_off797 v1 k0_t34 v228 v257 k0_t38) a + S1x1x1x16x128.size a ≤ S2x2x108x128x128.size a), (Rect.unit (s := S2x2x108x128x128) (k0_off797 v1 k0_t34 v228 v257 k0_t38) S1x1x1x16x128.size hinb).PackedRows (EltTy.packing .bf16)) ∧
  (∀ k0_t38 : Fin (k0_t38_loop v228 v257).trips, ∀ a, (k0_off798 v1 k0_t34 v228 v257 k0_t38) a + S1x1x1x32x128.size a ≤ S2x2x8x1728x128.size a) ∧
  (∀ k0_t38 : Fin (k0_t38_loop v228 v257).trips, ∀ a, (k0_off800 v1 k0_t34 v228 v257 k0_t38) a + S1x1x1x16x128.size a ≤ S2x2x108x128x128.size a) ∧
  (∀ k0_t38 : Fin (k0_t38_loop v228 v257).trips, ∀ (hinb : ∀ a, (k0_off800 v1 k0_t34 v228 v257 k0_t38) a + S1x1x1x16x128.size a ≤ S2x2x108x128x128.size a), (Rect.unit (s := S2x2x108x128x128) (k0_off800 v1 k0_t34 v228 v257 k0_t38) S1x1x1x16x128.size hinb).PackedRows (EltTy.packing .bf16)) ∧
  (∀ k0_t38 : Fin (k0_t38_loop v228 v257).trips, ∀ a, (k0_off802 v1 k0_t34 v228 v257 k0_t38) a + S1x1x1x16x128.size a ≤ S2x2x108x128x128.size a) ∧
  (∀ k0_t38 : Fin (k0_t38_loop v228 v257).trips, ∀ (hinb : ∀ a, (k0_off802 v1 k0_t34 v228 v257 k0_t38) a + S1x1x1x16x128.size a ≤ S2x2x108x128x128.size a), (Rect.unit (s := S2x2x108x128x128) (k0_off802 v1 k0_t34 v228 v257 k0_t38) S1x1x1x16x128.size hinb).PackedRows (EltTy.packing .bf16)) ∧
  (∀ k0_t38 : Fin (k0_t38_loop v228 v257).trips, ∀ a, (k0_off803 v1 k0_t34 v228 v257 k0_t38) a + S1x1x1x32x128.size a ≤ S2x2x8x1728x128.size a) ∧
  (∀ k0_t38 : Fin (k0_t38_loop v228 v257).trips, ∀ a, (k0_off805 v1 k0_t34 v228 v257 k0_t38) a + S1x1x1x16x128.size a ≤ S2x2x108x128x128.size a) ∧
  (∀ k0_t38 : Fin (k0_t38_loop v228 v257).trips, ∀ (hinb : ∀ a, (k0_off805 v1 k0_t34 v228 v257 k0_t38) a + S1x1x1x16x128.size a ≤ S2x2x108x128x128.size a), (Rect.unit (s := S2x2x108x128x128) (k0_off805 v1 k0_t34 v228 v257 k0_t38) S1x1x1x16x128.size hinb).PackedRows (EltTy.packing .bf16)) ∧
  (∀ k0_t38 : Fin (k0_t38_loop v228 v257).trips, ∀ a, (k0_off807 v1 k0_t34 v228 v257 k0_t38) a + S1x1x1x16x128.size a ≤ S2x2x108x128x128.size a) ∧
  (∀ k0_t38 : Fin (k0_t38_loop v228 v257).trips, ∀ (hinb : ∀ a, (k0_off807 v1 k0_t34 v228 v257 k0_t38) a + S1x1x1x16x128.size a ≤ S2x2x108x128x128.size a), (Rect.unit (s := S2x2x108x128x128) (k0_off807 v1 k0_t34 v228 v257 k0_t38) S1x1x1x16x128.size hinb).PackedRows (EltTy.packing .bf16))
def k0_chk21_13 (v1 : BitVec 32) (k0_t34 : Fin (k0_t34_loop v1).trips) (v228 : BitVec 32) (v257 : BitVec 32) : Prop :=
  (∀ k0_t38 : Fin (k0_t38_loop v228 v257).trips, ∀ a, (k0_off808 v1 k0_t34 v228 v257 k0_t38) a + S1x1x1x32x128.size a ≤ S2x2x8x1728x128.size a) ∧
  (∀ k0_t38 : Fin (k0_t38_loop v228 v257).trips, ∀ a, (k0_off810 v1 k0_t34 v228 v257 k0_t38) a + S1x1x1x16x128.size a ≤ S2x2x108x128x128.size a) ∧
  (∀ k0_t38 : Fin (k0_t38_loop v228 v257).trips, ∀ (hinb : ∀ a, (k0_off810 v1 k0_t34 v228 v257 k0_t38) a + S1x1x1x16x128.size a ≤ S2x2x108x128x128.size a), (Rect.unit (s := S2x2x108x128x128) (k0_off810 v1 k0_t34 v228 v257 k0_t38) S1x1x1x16x128.size hinb).PackedRows (EltTy.packing .bf16)) ∧
  (∀ k0_t38 : Fin (k0_t38_loop v228 v257).trips, ∀ a, (k0_off812 v1 k0_t34 v228 v257 k0_t38) a + S1x1x1x16x128.size a ≤ S2x2x108x128x128.size a) ∧
  (∀ k0_t38 : Fin (k0_t38_loop v228 v257).trips, ∀ (hinb : ∀ a, (k0_off812 v1 k0_t34 v228 v257 k0_t38) a + S1x1x1x16x128.size a ≤ S2x2x108x128x128.size a), (Rect.unit (s := S2x2x108x128x128) (k0_off812 v1 k0_t34 v228 v257 k0_t38) S1x1x1x16x128.size hinb).PackedRows (EltTy.packing .bf16)) ∧
  (∀ k0_t38 : Fin (k0_t38_loop v228 v257).trips, ∀ a, (k0_off813 v1 k0_t34 v228 v257 k0_t38) a + S1x1x1x32x128.size a ≤ S2x2x8x1728x128.size a) ∧
  (∀ k0_t38 : Fin (k0_t38_loop v228 v257).trips, ∀ a, (k0_off815 v1 k0_t34 v228 v257 k0_t38) a + S1x1x1x16x128.size a ≤ S2x2x108x128x128.size a) ∧
  (∀ k0_t38 : Fin (k0_t38_loop v228 v257).trips, ∀ (hinb : ∀ a, (k0_off815 v1 k0_t34 v228 v257 k0_t38) a + S1x1x1x16x128.size a ≤ S2x2x108x128x128.size a), (Rect.unit (s := S2x2x108x128x128) (k0_off815 v1 k0_t34 v228 v257 k0_t38) S1x1x1x16x128.size hinb).PackedRows (EltTy.packing .bf16)) ∧
  (∀ k0_t38 : Fin (k0_t38_loop v228 v257).trips, ∀ a, (k0_off817 v1 k0_t34 v228 v257 k0_t38) a + S1x1x1x16x128.size a ≤ S2x2x108x128x128.size a) ∧
  (∀ k0_t38 : Fin (k0_t38_loop v228 v257).trips, ∀ (hinb : ∀ a, (k0_off817 v1 k0_t34 v228 v257 k0_t38) a + S1x1x1x16x128.size a ≤ S2x2x108x128x128.size a), (Rect.unit (s := S2x2x108x128x128) (k0_off817 v1 k0_t34 v228 v257 k0_t38) S1x1x1x16x128.size hinb).PackedRows (EltTy.packing .bf16)) ∧
  (∀ k0_t38 : Fin (k0_t38_loop v228 v257).trips, ∀ a, (k0_off818 v1 k0_t34 v228 v257 k0_t38) a + S1x1x1x32x128.size a ≤ S2x2x8x1728x128.size a) ∧
  (∀ k0_t38 : Fin (k0_t38_loop v228 v257).trips, ∀ a, (k0_off820 v1 k0_t34 v228 v257 k0_t38) a + S1x1x1x16x128.size a ≤ S2x2x108x128x128.size a) ∧
  (∀ k0_t38 : Fin (k0_t38_loop v228 v257).trips, ∀ (hinb : ∀ a, (k0_off820 v1 k0_t34 v228 v257 k0_t38) a + S1x1x1x16x128.size a ≤ S2x2x108x128x128.size a), (Rect.unit (s := S2x2x108x128x128) (k0_off820 v1 k0_t34 v228 v257 k0_t38) S1x1x1x16x128.size hinb).PackedRows (EltTy.packing .bf16)) ∧
  (∀ k0_t38 : Fin (k0_t38_loop v228 v257).trips, ∀ a, (k0_off822 v1 k0_t34 v228 v257 k0_t38) a + S1x1x1x16x128.size a ≤ S2x2x108x128x128.size a) ∧
  (∀ k0_t38 : Fin (k0_t38_loop v228 v257).trips, ∀ (hinb : ∀ a, (k0_off822 v1 k0_t34 v228 v257 k0_t38) a + S1x1x1x16x128.size a ≤ S2x2x108x128x128.size a), (Rect.unit (s := S2x2x108x128x128) (k0_off822 v1 k0_t34 v228 v257 k0_t38) S1x1x1x16x128.size hinb).PackedRows (EltTy.packing .bf16)) ∧
  (∀ k0_t38 : Fin (k0_t38_loop v228 v257).trips, ∀ a, (k0_off823 v1 k0_t34 v228 v257 k0_t38) a + S1x1x1x32x128.size a ≤ S2x2x8x1728x128.size a) ∧
  (∀ k0_t38 : Fin (k0_t38_loop v228 v257).trips, ∀ a, (k0_off825 v1 k0_t34 v228 v257 k0_t38) a + S1x1x1x16x128.size a ≤ S2x2x108x128x128.size a) ∧
  (∀ k0_t38 : Fin (k0_t38_loop v228 v257).trips, ∀ (hinb : ∀ a, (k0_off825 v1 k0_t34 v228 v257 k0_t38) a + S1x1x1x16x128.size a ≤ S2x2x108x128x128.size a), (Rect.unit (s := S2x2x108x128x128) (k0_off825 v1 k0_t34 v228 v257 k0_t38) S1x1x1x16x128.size hinb).PackedRows (EltTy.packing .bf16)) ∧
  (∀ k0_t38 : Fin (k0_t38_loop v228 v257).trips, ∀ a, (k0_off827 v1 k0_t34 v228 v257 k0_t38) a + S1x1x1x16x128.size a ≤ S2x2x108x128x128.size a) ∧
  (∀ k0_t38 : Fin (k0_t38_loop v228 v257).trips, ∀ (hinb : ∀ a, (k0_off827 v1 k0_t34 v228 v257 k0_t38) a + S1x1x1x16x128.size a ≤ S2x2x108x128x128.size a), (Rect.unit (s := S2x2x108x128x128) (k0_off827 v1 k0_t34 v228 v257 k0_t38) S1x1x1x16x128.size hinb).PackedRows (EltTy.packing .bf16)) ∧
  (∀ k0_t38 : Fin (k0_t38_loop v228 v257).trips, ∀ a, (k0_off828 v1 k0_t34 v228 v257 k0_t38) a + S1x1x1x32x128.size a ≤ S2x2x8x1728x128.size a) ∧
  (∀ k0_t38 : Fin (k0_t38_loop v228 v257).trips, ∀ a, (k0_off830 v1 k0_t34 v228 v257 k0_t38) a + S1x1x1x16x128.size a ≤ S2x2x108x128x128.size a) ∧
  (∀ k0_t38 : Fin (k0_t38_loop v228 v257).trips, ∀ (hinb : ∀ a, (k0_off830 v1 k0_t34 v228 v257 k0_t38) a + S1x1x1x16x128.size a ≤ S2x2x108x128x128.size a), (Rect.unit (s := S2x2x108x128x128) (k0_off830 v1 k0_t34 v228 v257 k0_t38) S1x1x1x16x128.size hinb).PackedRows (EltTy.packing .bf16)) ∧
  (∀ k0_t38 : Fin (k0_t38_loop v228 v257).trips, ∀ a, (k0_off832 v1 k0_t34 v228 v257 k0_t38) a + S1x1x1x16x128.size a ≤ S2x2x108x128x128.size a) ∧
  (∀ k0_t38 : Fin (k0_t38_loop v228 v257).trips, ∀ (hinb : ∀ a, (k0_off832 v1 k0_t34 v228 v257 k0_t38) a + S1x1x1x16x128.size a ≤ S2x2x108x128x128.size a), (Rect.unit (s := S2x2x108x128x128) (k0_off832 v1 k0_t34 v228 v257 k0_t38) S1x1x1x16x128.size hinb).PackedRows (EltTy.packing .bf16)) ∧
  (∀ k0_t38 : Fin (k0_t38_loop v228 v257).trips, ∀ a, (k0_off833 v1 k0_t34 v228 v257 k0_t38) a + S1x1x1x32x128.size a ≤ S2x2x8x1728x128.size a) ∧
  (∀ k0_t38 : Fin (k0_t38_loop v228 v257).trips, ∀ a, (k0_off835 v1 k0_t34 v228 v257 k0_t38) a + S1x1x1x16x128.size a ≤ S2x2x108x128x128.size a) ∧
  (∀ k0_t38 : Fin (k0_t38_loop v228 v257).trips, ∀ (hinb : ∀ a, (k0_off835 v1 k0_t34 v228 v257 k0_t38) a + S1x1x1x16x128.size a ≤ S2x2x108x128x128.size a), (Rect.unit (s := S2x2x108x128x128) (k0_off835 v1 k0_t34 v228 v257 k0_t38) S1x1x1x16x128.size hinb).PackedRows (EltTy.packing .bf16)) ∧
  (∀ k0_t38 : Fin (k0_t38_loop v228 v257).trips, ∀ a, (k0_off837 v1 k0_t34 v228 v257 k0_t38) a + S1x1x1x16x128.size a ≤ S2x2x108x128x128.size a) ∧
  (∀ k0_t38 : Fin (k0_t38_loop v228 v257).trips, ∀ (hinb : ∀ a, (k0_off837 v1 k0_t34 v228 v257 k0_t38) a + S1x1x1x16x128.size a ≤ S2x2x108x128x128.size a), (Rect.unit (s := S2x2x108x128x128) (k0_off837 v1 k0_t34 v228 v257 k0_t38) S1x1x1x16x128.size hinb).PackedRows (EltTy.packing .bf16)) ∧
  (∀ k0_t38 : Fin (k0_t38_loop v228 v257).trips, ∀ a, (k0_off838 v1 k0_t34 v228 v257 k0_t38) a + S1x1x1x32x128.size a ≤ S2x2x8x1728x128.size a) ∧
  (∀ k0_t38 : Fin (k0_t38_loop v228 v257).trips, ∀ a, (k0_off840 v1 k0_t34 v228 v257 k0_t38) a + S1x1x1x16x128.size a ≤ S2x2x108x128x128.size a)
def k0_chk21_14 (v1 : BitVec 32) (k0_t34 : Fin (k0_t34_loop v1).trips) (v228 : BitVec 32) (v257 : BitVec 32) : Prop :=
  (∀ k0_t38 : Fin (k0_t38_loop v228 v257).trips, ∀ (hinb : ∀ a, (k0_off840 v1 k0_t34 v228 v257 k0_t38) a + S1x1x1x16x128.size a ≤ S2x2x108x128x128.size a), (Rect.unit (s := S2x2x108x128x128) (k0_off840 v1 k0_t34 v228 v257 k0_t38) S1x1x1x16x128.size hinb).PackedRows (EltTy.packing .bf16)) ∧
  (∀ k0_t38 : Fin (k0_t38_loop v228 v257).trips, ∀ a, (k0_off842 v1 k0_t34 v228 v257 k0_t38) a + S1x1x1x16x128.size a ≤ S2x2x108x128x128.size a) ∧
  (∀ k0_t38 : Fin (k0_t38_loop v228 v257).trips, ∀ (hinb : ∀ a, (k0_off842 v1 k0_t34 v228 v257 k0_t38) a + S1x1x1x16x128.size a ≤ S2x2x108x128x128.size a), (Rect.unit (s := S2x2x108x128x128) (k0_off842 v1 k0_t34 v228 v257 k0_t38) S1x1x1x16x128.size hinb).PackedRows (EltTy.packing .bf16)) ∧
  (∀ k0_t38 : Fin (k0_t38_loop v228 v257).trips, ∀ a, (k0_off843 v1 k0_t34 v228 v257 k0_t38) a + S1x1x1x32x128.size a ≤ S2x2x8x1728x128.size a) ∧
  (∀ k0_t38 : Fin (k0_t38_loop v228 v257).trips, ∀ a, (k0_off845 v1 k0_t34 v228 v257 k0_t38) a + S1x1x1x16x128.size a ≤ S2x2x108x128x128.size a) ∧
  (∀ k0_t38 : Fin (k0_t38_loop v228 v257).trips, ∀ (hinb : ∀ a, (k0_off845 v1 k0_t34 v228 v257 k0_t38) a + S1x1x1x16x128.size a ≤ S2x2x108x128x128.size a), (Rect.unit (s := S2x2x108x128x128) (k0_off845 v1 k0_t34 v228 v257 k0_t38) S1x1x1x16x128.size hinb).PackedRows (EltTy.packing .bf16)) ∧
  (∀ k0_t38 : Fin (k0_t38_loop v228 v257).trips, ∀ a, (k0_off847 v1 k0_t34 v228 v257 k0_t38) a + S1x1x1x16x128.size a ≤ S2x2x108x128x128.size a) ∧
  (∀ k0_t38 : Fin (k0_t38_loop v228 v257).trips, ∀ (hinb : ∀ a, (k0_off847 v1 k0_t34 v228 v257 k0_t38) a + S1x1x1x16x128.size a ≤ S2x2x108x128x128.size a), (Rect.unit (s := S2x2x108x128x128) (k0_off847 v1 k0_t34 v228 v257 k0_t38) S1x1x1x16x128.size hinb).PackedRows (EltTy.packing .bf16)) ∧
  (∀ k0_t38 : Fin (k0_t38_loop v228 v257).trips, ∀ a, (k0_off848 v1 k0_t34 v228 v257 k0_t38) a + S1x1x1x32x128.size a ≤ S2x2x8x1728x128.size a) ∧
  (∀ k0_t38 : Fin (k0_t38_loop v228 v257).trips, ∀ a, (k0_off850 v1 k0_t34 v228 v257 k0_t38) a + S1x1x1x16x128.size a ≤ S2x2x108x128x128.size a) ∧
  (∀ k0_t38 : Fin (k0_t38_loop v228 v257).trips, ∀ (hinb : ∀ a, (k0_off850 v1 k0_t34 v228 v257 k0_t38) a + S1x1x1x16x128.size a ≤ S2x2x108x128x128.size a), (Rect.unit (s := S2x2x108x128x128) (k0_off850 v1 k0_t34 v228 v257 k0_t38) S1x1x1x16x128.size hinb).PackedRows (EltTy.packing .bf16)) ∧
  (∀ k0_t38 : Fin (k0_t38_loop v228 v257).trips, ∀ a, (k0_off852 v1 k0_t34 v228 v257 k0_t38) a + S1x1x1x16x128.size a ≤ S2x2x108x128x128.size a) ∧
  (∀ k0_t38 : Fin (k0_t38_loop v228 v257).trips, ∀ (hinb : ∀ a, (k0_off852 v1 k0_t34 v228 v257 k0_t38) a + S1x1x1x16x128.size a ≤ S2x2x108x128x128.size a), (Rect.unit (s := S2x2x108x128x128) (k0_off852 v1 k0_t34 v228 v257 k0_t38) S1x1x1x16x128.size hinb).PackedRows (EltTy.packing .bf16)) ∧
  (∀ k0_t38 : Fin (k0_t38_loop v228 v257).trips, ∀ a, (k0_off853 v1 k0_t34 v228 v257 k0_t38) a + S1x1x1x32x128.size a ≤ S2x2x8x1728x128.size a) ∧
  (∀ k0_t38 : Fin (k0_t38_loop v228 v257).trips, ∀ a, (k0_off855 v1 k0_t34 v228 v257 k0_t38) a + S1x1x1x16x128.size a ≤ S2x2x108x128x128.size a) ∧
  (∀ k0_t38 : Fin (k0_t38_loop v228 v257).trips, ∀ (hinb : ∀ a, (k0_off855 v1 k0_t34 v228 v257 k0_t38) a + S1x1x1x16x128.size a ≤ S2x2x108x128x128.size a), (Rect.unit (s := S2x2x108x128x128) (k0_off855 v1 k0_t34 v228 v257 k0_t38) S1x1x1x16x128.size hinb).PackedRows (EltTy.packing .bf16)) ∧
  (∀ k0_t38 : Fin (k0_t38_loop v228 v257).trips, ∀ a, (k0_off857 v1 k0_t34 v228 v257 k0_t38) a + S1x1x1x16x128.size a ≤ S2x2x108x128x128.size a) ∧
  (∀ k0_t38 : Fin (k0_t38_loop v228 v257).trips, ∀ (hinb : ∀ a, (k0_off857 v1 k0_t34 v228 v257 k0_t38) a + S1x1x1x16x128.size a ≤ S2x2x108x128x128.size a), (Rect.unit (s := S2x2x108x128x128) (k0_off857 v1 k0_t34 v228 v257 k0_t38) S1x1x1x16x128.size hinb).PackedRows (EltTy.packing .bf16)) ∧
  (∀ k0_t38 : Fin (k0_t38_loop v228 v257).trips, ∀ a, (k0_off858 v1 k0_t34 v228 v257 k0_t38) a + S1x1x1x32x128.size a ≤ S2x2x8x1728x128.size a) ∧
  (∀ k0_t38 : Fin (k0_t38_loop v228 v257).trips, ∀ a, (k0_off860 v1 k0_t34 v228 v257 k0_t38) a + S1x1x1x16x128.size a ≤ S2x2x108x128x128.size a) ∧
  (∀ k0_t38 : Fin (k0_t38_loop v228 v257).trips, ∀ (hinb : ∀ a, (k0_off860 v1 k0_t34 v228 v257 k0_t38) a + S1x1x1x16x128.size a ≤ S2x2x108x128x128.size a), (Rect.unit (s := S2x2x108x128x128) (k0_off860 v1 k0_t34 v228 v257 k0_t38) S1x1x1x16x128.size hinb).PackedRows (EltTy.packing .bf16)) ∧
  (∀ k0_t38 : Fin (k0_t38_loop v228 v257).trips, ∀ a, (k0_off862 v1 k0_t34 v228 v257 k0_t38) a + S1x1x1x16x128.size a ≤ S2x2x108x128x128.size a) ∧
  (∀ k0_t38 : Fin (k0_t38_loop v228 v257).trips, ∀ (hinb : ∀ a, (k0_off862 v1 k0_t34 v228 v257 k0_t38) a + S1x1x1x16x128.size a ≤ S2x2x108x128x128.size a), (Rect.unit (s := S2x2x108x128x128) (k0_off862 v1 k0_t34 v228 v257 k0_t38) S1x1x1x16x128.size hinb).PackedRows (EltTy.packing .bf16)) ∧
  (∀ k0_t38 : Fin (k0_t38_loop v228 v257).trips, ∀ a, (k0_off863 v1 k0_t34 v228 v257 k0_t38) a + S1x1x1x32x128.size a ≤ S2x2x8x1728x128.size a) ∧
  (∀ k0_t38 : Fin (k0_t38_loop v228 v257).trips, ∀ a, (k0_off865 v1 k0_t34 v228 v257 k0_t38) a + S1x1x1x16x128.size a ≤ S2x2x108x128x128.size a) ∧
  (∀ k0_t38 : Fin (k0_t38_loop v228 v257).trips, ∀ (hinb : ∀ a, (k0_off865 v1 k0_t34 v228 v257 k0_t38) a + S1x1x1x16x128.size a ≤ S2x2x108x128x128.size a), (Rect.unit (s := S2x2x108x128x128) (k0_off865 v1 k0_t34 v228 v257 k0_t38) S1x1x1x16x128.size hinb).PackedRows (EltTy.packing .bf16)) ∧
  (∀ k0_t38 : Fin (k0_t38_loop v228 v257).trips, ∀ a, (k0_off867 v1 k0_t34 v228 v257 k0_t38) a + S1x1x1x16x128.size a ≤ S2x2x108x128x128.size a) ∧
  (∀ k0_t38 : Fin (k0_t38_loop v228 v257).trips, ∀ (hinb : ∀ a, (k0_off867 v1 k0_t34 v228 v257 k0_t38) a + S1x1x1x16x128.size a ≤ S2x2x108x128x128.size a), (Rect.unit (s := S2x2x108x128x128) (k0_off867 v1 k0_t34 v228 v257 k0_t38) S1x1x1x16x128.size hinb).PackedRows (EltTy.packing .bf16)) ∧
  (∀ k0_t38 : Fin (k0_t38_loop v228 v257).trips, ∀ a, (k0_off868 v1 k0_t34 v228 v257 k0_t38) a + S1x1x1x32x128.size a ≤ S2x2x8x1728x128.size a) ∧
  (∀ k0_t38 : Fin (k0_t38_loop v228 v257).trips, ∀ a, (k0_off870 v1 k0_t34 v228 v257 k0_t38) a + S1x1x1x16x128.size a ≤ S2x2x108x128x128.size a) ∧
  (∀ k0_t38 : Fin (k0_t38_loop v228 v257).trips, ∀ (hinb : ∀ a, (k0_off870 v1 k0_t34 v228 v257 k0_t38) a + S1x1x1x16x128.size a ≤ S2x2x108x128x128.size a), (Rect.unit (s := S2x2x108x128x128) (k0_off870 v1 k0_t34 v228 v257 k0_t38) S1x1x1x16x128.size hinb).PackedRows (EltTy.packing .bf16)) ∧
  (∀ k0_t38 : Fin (k0_t38_loop v228 v257).trips, ∀ a, (k0_off872 v1 k0_t34 v228 v257 k0_t38) a + S1x1x1x16x128.size a ≤ S2x2x108x128x128.size a)
def k0_chk21_15 (v1 : BitVec 32) (k0_t34 : Fin (k0_t34_loop v1).trips) (v228 : BitVec 32) (v257 : BitVec 32) : Prop :=
  (∀ k0_t38 : Fin (k0_t38_loop v228 v257).trips, ∀ (hinb : ∀ a, (k0_off872 v1 k0_t34 v228 v257 k0_t38) a + S1x1x1x16x128.size a ≤ S2x2x108x128x128.size a), (Rect.unit (s := S2x2x108x128x128) (k0_off872 v1 k0_t34 v228 v257 k0_t38) S1x1x1x16x128.size hinb).PackedRows (EltTy.packing .bf16)) ∧
  (∀ k0_t38 : Fin (k0_t38_loop v228 v257).trips, ∀ a, (k0_off873 v1 k0_t34 v228 v257 k0_t38) a + S1x1x1x32x128.size a ≤ S2x2x8x1728x128.size a) ∧
  (∀ k0_t38 : Fin (k0_t38_loop v228 v257).trips, ∀ a, (k0_off875 v1 k0_t34 v228 v257 k0_t38) a + S1x1x1x16x128.size a ≤ S2x2x108x128x128.size a) ∧
  (∀ k0_t38 : Fin (k0_t38_loop v228 v257).trips, ∀ (hinb : ∀ a, (k0_off875 v1 k0_t34 v228 v257 k0_t38) a + S1x1x1x16x128.size a ≤ S2x2x108x128x128.size a), (Rect.unit (s := S2x2x108x128x128) (k0_off875 v1 k0_t34 v228 v257 k0_t38) S1x1x1x16x128.size hinb).PackedRows (EltTy.packing .bf16)) ∧
  (∀ k0_t38 : Fin (k0_t38_loop v228 v257).trips, ∀ a, (k0_off877 v1 k0_t34 v228 v257 k0_t38) a + S1x1x1x16x128.size a ≤ S2x2x108x128x128.size a) ∧
  (∀ k0_t38 : Fin (k0_t38_loop v228 v257).trips, ∀ (hinb : ∀ a, (k0_off877 v1 k0_t34 v228 v257 k0_t38) a + S1x1x1x16x128.size a ≤ S2x2x108x128x128.size a), (Rect.unit (s := S2x2x108x128x128) (k0_off877 v1 k0_t34 v228 v257 k0_t38) S1x1x1x16x128.size hinb).PackedRows (EltTy.packing .bf16)) ∧
  (∀ k0_t38 : Fin (k0_t38_loop v228 v257).trips, ∀ a, (k0_off878 v1 k0_t34 v228 v257 k0_t38) a + S1x1x1x32x128.size a ≤ S2x2x8x1728x128.size a) ∧
  (∀ k0_t38 : Fin (k0_t38_loop v228 v257).trips, ∀ a, (k0_off880 v1 k0_t34 v228 v257 k0_t38) a + S1x1x1x16x128.size a ≤ S2x2x108x128x128.size a) ∧
  (∀ k0_t38 : Fin (k0_t38_loop v228 v257).trips, ∀ (hinb : ∀ a, (k0_off880 v1 k0_t34 v228 v257 k0_t38) a + S1x1x1x16x128.size a ≤ S2x2x108x128x128.size a), (Rect.unit (s := S2x2x108x128x128) (k0_off880 v1 k0_t34 v228 v257 k0_t38) S1x1x1x16x128.size hinb).PackedRows (EltTy.packing .bf16)) ∧
  (∀ k0_t38 : Fin (k0_t38_loop v228 v257).trips, ∀ a, (k0_off882 v1 k0_t34 v228 v257 k0_t38) a + S1x1x1x16x128.size a ≤ S2x2x108x128x128.size a) ∧
  (∀ k0_t38 : Fin (k0_t38_loop v228 v257).trips, ∀ (hinb : ∀ a, (k0_off882 v1 k0_t34 v228 v257 k0_t38) a + S1x1x1x16x128.size a ≤ S2x2x108x128x128.size a), (Rect.unit (s := S2x2x108x128x128) (k0_off882 v1 k0_t34 v228 v257 k0_t38) S1x1x1x16x128.size hinb).PackedRows (EltTy.packing .bf16)) ∧
  (∀ k0_t38 : Fin (k0_t38_loop v228 v257).trips, ∀ a, (k0_off883 v1 k0_t34 v228 v257 k0_t38) a + S1x1x1x32x128.size a ≤ S2x2x8x1728x128.size a) ∧
  (∀ k0_t38 : Fin (k0_t38_loop v228 v257).trips, ∀ a, (k0_off885 v1 k0_t34 v228 v257 k0_t38) a + S1x1x1x16x128.size a ≤ S2x2x108x128x128.size a) ∧
  (∀ k0_t38 : Fin (k0_t38_loop v228 v257).trips, ∀ (hinb : ∀ a, (k0_off885 v1 k0_t34 v228 v257 k0_t38) a + S1x1x1x16x128.size a ≤ S2x2x108x128x128.size a), (Rect.unit (s := S2x2x108x128x128) (k0_off885 v1 k0_t34 v228 v257 k0_t38) S1x1x1x16x128.size hinb).PackedRows (EltTy.packing .bf16)) ∧
  (∀ k0_t38 : Fin (k0_t38_loop v228 v257).trips, ∀ a, (k0_off887 v1 k0_t34 v228 v257 k0_t38) a + S1x1x1x16x128.size a ≤ S2x2x108x128x128.size a) ∧
  (∀ k0_t38 : Fin (k0_t38_loop v228 v257).trips, ∀ (hinb : ∀ a, (k0_off887 v1 k0_t34 v228 v257 k0_t38) a + S1x1x1x16x128.size a ≤ S2x2x108x128x128.size a), (Rect.unit (s := S2x2x108x128x128) (k0_off887 v1 k0_t34 v228 v257 k0_t38) S1x1x1x16x128.size hinb).PackedRows (EltTy.packing .bf16)) ∧
  (∀ k0_t38 : Fin (k0_t38_loop v228 v257).trips, ∀ a, (k0_off888 v1 k0_t34 v228 v257 k0_t38) a + S1x1x1x32x128.size a ≤ S2x2x8x1728x128.size a) ∧
  (∀ k0_t38 : Fin (k0_t38_loop v228 v257).trips, ∀ a, (k0_off890 v1 k0_t34 v228 v257 k0_t38) a + S1x1x1x16x128.size a ≤ S2x2x108x128x128.size a) ∧
  (∀ k0_t38 : Fin (k0_t38_loop v228 v257).trips, ∀ (hinb : ∀ a, (k0_off890 v1 k0_t34 v228 v257 k0_t38) a + S1x1x1x16x128.size a ≤ S2x2x108x128x128.size a), (Rect.unit (s := S2x2x108x128x128) (k0_off890 v1 k0_t34 v228 v257 k0_t38) S1x1x1x16x128.size hinb).PackedRows (EltTy.packing .bf16)) ∧
  (∀ k0_t38 : Fin (k0_t38_loop v228 v257).trips, ∀ a, (k0_off892 v1 k0_t34 v228 v257 k0_t38) a + S1x1x1x16x128.size a ≤ S2x2x108x128x128.size a) ∧
  (∀ k0_t38 : Fin (k0_t38_loop v228 v257).trips, ∀ (hinb : ∀ a, (k0_off892 v1 k0_t34 v228 v257 k0_t38) a + S1x1x1x16x128.size a ≤ S2x2x108x128x128.size a), (Rect.unit (s := S2x2x108x128x128) (k0_off892 v1 k0_t34 v228 v257 k0_t38) S1x1x1x16x128.size hinb).PackedRows (EltTy.packing .bf16)) ∧
  (∀ k0_t38 : Fin (k0_t38_loop v228 v257).trips, ∀ a, (k0_off893 v1 k0_t34 v228 v257 k0_t38) a + S1x1x1x32x128.size a ≤ S2x2x8x1728x128.size a) ∧
  (∀ k0_t38 : Fin (k0_t38_loop v228 v257).trips, ∀ a, (k0_off895 v1 k0_t34 v228 v257 k0_t38) a + S1x1x1x16x128.size a ≤ S2x2x108x128x128.size a) ∧
  (∀ k0_t38 : Fin (k0_t38_loop v228 v257).trips, ∀ (hinb : ∀ a, (k0_off895 v1 k0_t34 v228 v257 k0_t38) a + S1x1x1x16x128.size a ≤ S2x2x108x128x128.size a), (Rect.unit (s := S2x2x108x128x128) (k0_off895 v1 k0_t34 v228 v257 k0_t38) S1x1x1x16x128.size hinb).PackedRows (EltTy.packing .bf16)) ∧
  (∀ k0_t38 : Fin (k0_t38_loop v228 v257).trips, ∀ a, (k0_off897 v1 k0_t34 v228 v257 k0_t38) a + S1x1x1x16x128.size a ≤ S2x2x108x128x128.size a) ∧
  (∀ k0_t38 : Fin (k0_t38_loop v228 v257).trips, ∀ (hinb : ∀ a, (k0_off897 v1 k0_t34 v228 v257 k0_t38) a + S1x1x1x16x128.size a ≤ S2x2x108x128x128.size a), (Rect.unit (s := S2x2x108x128x128) (k0_off897 v1 k0_t34 v228 v257 k0_t38) S1x1x1x16x128.size hinb).PackedRows (EltTy.packing .bf16)) ∧
  (∀ k0_t38 : Fin (k0_t38_loop v228 v257).trips, ∀ a, (k0_off898 v1 k0_t34 v228 v257 k0_t38) a + S1x1x1x32x128.size a ≤ S2x2x8x1728x128.size a) ∧
  (∀ k0_t38 : Fin (k0_t38_loop v228 v257).trips, ∀ a, (k0_off900 v1 k0_t34 v228 v257 k0_t38) a + S1x1x1x16x128.size a ≤ S2x2x108x128x128.size a) ∧
  (∀ k0_t38 : Fin (k0_t38_loop v228 v257).trips, ∀ (hinb : ∀ a, (k0_off900 v1 k0_t34 v228 v257 k0_t38) a + S1x1x1x16x128.size a ≤ S2x2x108x128x128.size a), (Rect.unit (s := S2x2x108x128x128) (k0_off900 v1 k0_t34 v228 v257 k0_t38) S1x1x1x16x128.size hinb).PackedRows (EltTy.packing .bf16)) ∧
  (∀ k0_t38 : Fin (k0_t38_loop v228 v257).trips, ∀ a, (k0_off902 v1 k0_t34 v228 v257 k0_t38) a + S1x1x1x16x128.size a ≤ S2x2x108x128x128.size a) ∧
  (∀ k0_t38 : Fin (k0_t38_loop v228 v257).trips, ∀ (hinb : ∀ a, (k0_off902 v1 k0_t34 v228 v257 k0_t38) a + S1x1x1x16x128.size a ≤ S2x2x108x128x128.size a), (Rect.unit (s := S2x2x108x128x128) (k0_off902 v1 k0_t34 v228 v257 k0_t38) S1x1x1x16x128.size hinb).PackedRows (EltTy.packing .bf16)) ∧
  (∀ k0_t38 : Fin (k0_t38_loop v228 v257).trips, ∀ a, (k0_off903 v1 k0_t34 v228 v257 k0_t38) a + S1x1x1x32x128.size a ≤ S2x2x8x1728x128.size a)
def k0_chk21_16 (v1 : BitVec 32) (k0_t34 : Fin (k0_t34_loop v1).trips) (v228 : BitVec 32) (v257 : BitVec 32) : Prop :=
  (∀ k0_t38 : Fin (k0_t38_loop v228 v257).trips, ∀ a, (k0_off905 v1 k0_t34 v228 v257 k0_t38) a + S1x1x1x16x128.size a ≤ S2x2x108x128x128.size a) ∧
  (∀ k0_t38 : Fin (k0_t38_loop v228 v257).trips, ∀ (hinb : ∀ a, (k0_off905 v1 k0_t34 v228 v257 k0_t38) a + S1x1x1x16x128.size a ≤ S2x2x108x128x128.size a), (Rect.unit (s := S2x2x108x128x128) (k0_off905 v1 k0_t34 v228 v257 k0_t38) S1x1x1x16x128.size hinb).PackedRows (EltTy.packing .bf16)) ∧
  (∀ k0_t38 : Fin (k0_t38_loop v228 v257).trips, ∀ a, (k0_off907 v1 k0_t34 v228 v257 k0_t38) a + S1x1x1x16x128.size a ≤ S2x2x108x128x128.size a) ∧
  (∀ k0_t38 : Fin (k0_t38_loop v228 v257).trips, ∀ (hinb : ∀ a, (k0_off907 v1 k0_t34 v228 v257 k0_t38) a + S1x1x1x16x128.size a ≤ S2x2x108x128x128.size a), (Rect.unit (s := S2x2x108x128x128) (k0_off907 v1 k0_t34 v228 v257 k0_t38) S1x1x1x16x128.size hinb).PackedRows (EltTy.packing .bf16)) ∧
  (∀ k0_t38 : Fin (k0_t38_loop v228 v257).trips, ∀ a, (k0_off908 v1 k0_t34 v228 v257 k0_t38) a + S1x1x1x32x128.size a ≤ S2x2x8x1728x128.size a) ∧
  (∀ k0_t38 : Fin (k0_t38_loop v228 v257).trips, ∀ a, (k0_off910 v1 k0_t34 v228 v257 k0_t38) a + S1x1x1x16x128.size a ≤ S2x2x108x128x128.size a) ∧
  (∀ k0_t38 : Fin (k0_t38_loop v228 v257).trips, ∀ (hinb : ∀ a, (k0_off910 v1 k0_t34 v228 v257 k0_t38) a + S1x1x1x16x128.size a ≤ S2x2x108x128x128.size a), (Rect.unit (s := S2x2x108x128x128) (k0_off910 v1 k0_t34 v228 v257 k0_t38) S1x1x1x16x128.size hinb).PackedRows (EltTy.packing .bf16)) ∧
  (∀ k0_t38 : Fin (k0_t38_loop v228 v257).trips, ∀ a, (k0_off912 v1 k0_t34 v228 v257 k0_t38) a + S1x1x1x16x128.size a ≤ S2x2x108x128x128.size a) ∧
  (∀ k0_t38 : Fin (k0_t38_loop v228 v257).trips, ∀ (hinb : ∀ a, (k0_off912 v1 k0_t34 v228 v257 k0_t38) a + S1x1x1x16x128.size a ≤ S2x2x108x128x128.size a), (Rect.unit (s := S2x2x108x128x128) (k0_off912 v1 k0_t34 v228 v257 k0_t38) S1x1x1x16x128.size hinb).PackedRows (EltTy.packing .bf16)) ∧
  (∀ k0_t38 : Fin (k0_t38_loop v228 v257).trips, ∀ a, (k0_off913 v1 k0_t34 v228 v257 k0_t38) a + S1x1x1x32x128.size a ≤ S2x2x8x1728x128.size a) ∧
  (∀ k0_t38 : Fin (k0_t38_loop v228 v257).trips, ∀ a, (k0_off915 v1 k0_t34 v228 v257 k0_t38) a + S1x1x1x16x128.size a ≤ S2x2x108x128x128.size a) ∧
  (∀ k0_t38 : Fin (k0_t38_loop v228 v257).trips, ∀ (hinb : ∀ a, (k0_off915 v1 k0_t34 v228 v257 k0_t38) a + S1x1x1x16x128.size a ≤ S2x2x108x128x128.size a), (Rect.unit (s := S2x2x108x128x128) (k0_off915 v1 k0_t34 v228 v257 k0_t38) S1x1x1x16x128.size hinb).PackedRows (EltTy.packing .bf16)) ∧
  (∀ k0_t38 : Fin (k0_t38_loop v228 v257).trips, ∀ a, (k0_off917 v1 k0_t34 v228 v257 k0_t38) a + S1x1x1x16x128.size a ≤ S2x2x108x128x128.size a) ∧
  (∀ k0_t38 : Fin (k0_t38_loop v228 v257).trips, ∀ (hinb : ∀ a, (k0_off917 v1 k0_t34 v228 v257 k0_t38) a + S1x1x1x16x128.size a ≤ S2x2x108x128x128.size a), (Rect.unit (s := S2x2x108x128x128) (k0_off917 v1 k0_t34 v228 v257 k0_t38) S1x1x1x16x128.size hinb).PackedRows (EltTy.packing .bf16)) ∧
  (∀ k0_t38 : Fin (k0_t38_loop v228 v257).trips, ∀ a, (k0_off918 v1 k0_t34 v228 v257 k0_t38) a + S1x1x1x32x128.size a ≤ S2x2x8x1728x128.size a) ∧
  (∀ k0_t38 : Fin (k0_t38_loop v228 v257).trips, ∀ a, (k0_off920 v1 k0_t34 v228 v257 k0_t38) a + S1x1x1x16x128.size a ≤ S2x2x108x128x128.size a) ∧
  (∀ k0_t38 : Fin (k0_t38_loop v228 v257).trips, ∀ (hinb : ∀ a, (k0_off920 v1 k0_t34 v228 v257 k0_t38) a + S1x1x1x16x128.size a ≤ S2x2x108x128x128.size a), (Rect.unit (s := S2x2x108x128x128) (k0_off920 v1 k0_t34 v228 v257 k0_t38) S1x1x1x16x128.size hinb).PackedRows (EltTy.packing .bf16)) ∧
  (∀ k0_t38 : Fin (k0_t38_loop v228 v257).trips, ∀ a, (k0_off922 v1 k0_t34 v228 v257 k0_t38) a + S1x1x1x16x128.size a ≤ S2x2x108x128x128.size a) ∧
  (∀ k0_t38 : Fin (k0_t38_loop v228 v257).trips, ∀ (hinb : ∀ a, (k0_off922 v1 k0_t34 v228 v257 k0_t38) a + S1x1x1x16x128.size a ≤ S2x2x108x128x128.size a), (Rect.unit (s := S2x2x108x128x128) (k0_off922 v1 k0_t34 v228 v257 k0_t38) S1x1x1x16x128.size hinb).PackedRows (EltTy.packing .bf16)) ∧
  (∀ k0_t38 : Fin (k0_t38_loop v228 v257).trips, ∀ a, (k0_off923 v1 k0_t34 v228 v257 k0_t38) a + S1x1x1x32x128.size a ≤ S2x2x8x1728x128.size a) ∧
  (∀ k0_t38 : Fin (k0_t38_loop v228 v257).trips, ∀ a, (k0_off925 v1 k0_t34 v228 v257 k0_t38) a + S1x1x1x16x128.size a ≤ S2x2x108x128x128.size a) ∧
  (∀ k0_t38 : Fin (k0_t38_loop v228 v257).trips, ∀ (hinb : ∀ a, (k0_off925 v1 k0_t34 v228 v257 k0_t38) a + S1x1x1x16x128.size a ≤ S2x2x108x128x128.size a), (Rect.unit (s := S2x2x108x128x128) (k0_off925 v1 k0_t34 v228 v257 k0_t38) S1x1x1x16x128.size hinb).PackedRows (EltTy.packing .bf16)) ∧
  (∀ k0_t38 : Fin (k0_t38_loop v228 v257).trips, ∀ a, (k0_off927 v1 k0_t34 v228 v257 k0_t38) a + S1x1x1x16x128.size a ≤ S2x2x108x128x128.size a) ∧
  (∀ k0_t38 : Fin (k0_t38_loop v228 v257).trips, ∀ (hinb : ∀ a, (k0_off927 v1 k0_t34 v228 v257 k0_t38) a + S1x1x1x16x128.size a ≤ S2x2x108x128x128.size a), (Rect.unit (s := S2x2x108x128x128) (k0_off927 v1 k0_t34 v228 v257 k0_t38) S1x1x1x16x128.size hinb).PackedRows (EltTy.packing .bf16)) ∧
  (∀ k0_t38 : Fin (k0_t38_loop v228 v257).trips, ∀ a, (k0_off928 v1 k0_t34 v228 v257 k0_t38) a + S1x1x1x32x128.size a ≤ S2x2x8x1728x128.size a) ∧
  (∀ k0_t38 : Fin (k0_t38_loop v228 v257).trips, ∀ a, (k0_off930 v1 k0_t34 v228 v257 k0_t38) a + S1x1x1x16x128.size a ≤ S2x2x108x128x128.size a) ∧
  (∀ k0_t38 : Fin (k0_t38_loop v228 v257).trips, ∀ (hinb : ∀ a, (k0_off930 v1 k0_t34 v228 v257 k0_t38) a + S1x1x1x16x128.size a ≤ S2x2x108x128x128.size a), (Rect.unit (s := S2x2x108x128x128) (k0_off930 v1 k0_t34 v228 v257 k0_t38) S1x1x1x16x128.size hinb).PackedRows (EltTy.packing .bf16)) ∧
  (∀ k0_t38 : Fin (k0_t38_loop v228 v257).trips, ∀ a, (k0_off932 v1 k0_t34 v228 v257 k0_t38) a + S1x1x1x16x128.size a ≤ S2x2x108x128x128.size a) ∧
  (∀ k0_t38 : Fin (k0_t38_loop v228 v257).trips, ∀ (hinb : ∀ a, (k0_off932 v1 k0_t34 v228 v257 k0_t38) a + S1x1x1x16x128.size a ≤ S2x2x108x128x128.size a), (Rect.unit (s := S2x2x108x128x128) (k0_off932 v1 k0_t34 v228 v257 k0_t38) S1x1x1x16x128.size hinb).PackedRows (EltTy.packing .bf16)) ∧
  (∀ k0_t38 : Fin (k0_t38_loop v228 v257).trips, ∀ a, (k0_off933 v1 k0_t34 v228 v257 k0_t38) a + S1x1x1x32x128.size a ≤ S2x2x8x1728x128.size a) ∧
  (∀ k0_t38 : Fin (k0_t38_loop v228 v257).trips, ∀ a, (k0_off935 v1 k0_t34 v228 v257 k0_t38) a + S1x1x1x16x128.size a ≤ S2x2x108x128x128.size a) ∧
  (∀ k0_t38 : Fin (k0_t38_loop v228 v257).trips, ∀ (hinb : ∀ a, (k0_off935 v1 k0_t34 v228 v257 k0_t38) a + S1x1x1x16x128.size a ≤ S2x2x108x128x128.size a), (Rect.unit (s := S2x2x108x128x128) (k0_off935 v1 k0_t34 v228 v257 k0_t38) S1x1x1x16x128.size hinb).PackedRows (EltTy.packing .bf16))
def k0_chk21_17 (v1 : BitVec 32) (k0_t34 : Fin (k0_t34_loop v1).trips) (v228 : BitVec 32) (v257 : BitVec 32) : Prop :=
  (∀ k0_t38 : Fin (k0_t38_loop v228 v257).trips, ∀ a, (k0_off937 v1 k0_t34 v228 v257 k0_t38) a + S1x1x1x16x128.size a ≤ S2x2x108x128x128.size a) ∧
  (∀ k0_t38 : Fin (k0_t38_loop v228 v257).trips, ∀ (hinb : ∀ a, (k0_off937 v1 k0_t34 v228 v257 k0_t38) a + S1x1x1x16x128.size a ≤ S2x2x108x128x128.size a), (Rect.unit (s := S2x2x108x128x128) (k0_off937 v1 k0_t34 v228 v257 k0_t38) S1x1x1x16x128.size hinb).PackedRows (EltTy.packing .bf16)) ∧
  (∀ k0_t38 : Fin (k0_t38_loop v228 v257).trips, ∀ a, (k0_off938 v1 k0_t34 v228 v257 k0_t38) a + S1x1x1x32x128.size a ≤ S2x2x8x1728x128.size a) ∧
  (∀ k0_t38 : Fin (k0_t38_loop v228 v257).trips, ∀ a, (k0_off940 v1 k0_t34 v228 v257 k0_t38) a + S1x1x1x16x128.size a ≤ S2x2x108x128x128.size a) ∧
  (∀ k0_t38 : Fin (k0_t38_loop v228 v257).trips, ∀ (hinb : ∀ a, (k0_off940 v1 k0_t34 v228 v257 k0_t38) a + S1x1x1x16x128.size a ≤ S2x2x108x128x128.size a), (Rect.unit (s := S2x2x108x128x128) (k0_off940 v1 k0_t34 v228 v257 k0_t38) S1x1x1x16x128.size hinb).PackedRows (EltTy.packing .bf16)) ∧
  (∀ k0_t38 : Fin (k0_t38_loop v228 v257).trips, ∀ a, (k0_off942 v1 k0_t34 v228 v257 k0_t38) a + S1x1x1x16x128.size a ≤ S2x2x108x128x128.size a) ∧
  (∀ k0_t38 : Fin (k0_t38_loop v228 v257).trips, ∀ (hinb : ∀ a, (k0_off942 v1 k0_t34 v228 v257 k0_t38) a + S1x1x1x16x128.size a ≤ S2x2x108x128x128.size a), (Rect.unit (s := S2x2x108x128x128) (k0_off942 v1 k0_t34 v228 v257 k0_t38) S1x1x1x16x128.size hinb).PackedRows (EltTy.packing .bf16)) ∧
  (∀ k0_t38 : Fin (k0_t38_loop v228 v257).trips, ∀ a, (k0_off943 v1 k0_t34 v228 v257 k0_t38) a + S1x1x1x32x128.size a ≤ S2x2x8x1728x128.size a) ∧
  (∀ k0_t38 : Fin (k0_t38_loop v228 v257).trips, ∀ a, (k0_off945 v1 k0_t34 v228 v257 k0_t38) a + S1x1x1x16x128.size a ≤ S2x2x108x128x128.size a) ∧
  (∀ k0_t38 : Fin (k0_t38_loop v228 v257).trips, ∀ (hinb : ∀ a, (k0_off945 v1 k0_t34 v228 v257 k0_t38) a + S1x1x1x16x128.size a ≤ S2x2x108x128x128.size a), (Rect.unit (s := S2x2x108x128x128) (k0_off945 v1 k0_t34 v228 v257 k0_t38) S1x1x1x16x128.size hinb).PackedRows (EltTy.packing .bf16)) ∧
  (∀ k0_t38 : Fin (k0_t38_loop v228 v257).trips, ∀ a, (k0_off947 v1 k0_t34 v228 v257 k0_t38) a + S1x1x1x16x128.size a ≤ S2x2x108x128x128.size a) ∧
  (∀ k0_t38 : Fin (k0_t38_loop v228 v257).trips, ∀ (hinb : ∀ a, (k0_off947 v1 k0_t34 v228 v257 k0_t38) a + S1x1x1x16x128.size a ≤ S2x2x108x128x128.size a), (Rect.unit (s := S2x2x108x128x128) (k0_off947 v1 k0_t34 v228 v257 k0_t38) S1x1x1x16x128.size hinb).PackedRows (EltTy.packing .bf16)) ∧
  ((k0_t39_loop v228 v257).OK) ∧
  (∀ k0_t39 : Fin (k0_t39_loop v228 v257).trips, 16 ∣ (k0_mult8 v228 v257 k0_t39).toNat) ∧
  (∀ k0_t39 : Fin (k0_t39_loop v228 v257).trips, ∀ a, (k0_off948 v1 k0_t34 v228 v257 k0_t39) a + S1x1x1x16x128.size a ≤ S2x2x108x128x128.size a) ∧
  (∀ k0_t39 : Fin (k0_t39_loop v228 v257).trips, ∀ (hinb : ∀ a, (k0_off948 v1 k0_t34 v228 v257 k0_t39) a + S1x1x1x16x128.size a ≤ S2x2x108x128x128.size a), (Rect.unit (s := S2x2x108x128x128) (k0_off948 v1 k0_t34 v228 v257 k0_t39) S1x1x1x16x128.size hinb).PackedRows (EltTy.packing .bf16)) ∧
  (∀ k0_t39 : Fin (k0_t39_loop v228 v257).trips, ∀ a, (k0_off949 v1 k0_t34 v228 v257 k0_t39) a + S1x1x1x16x128.size a ≤ S2x2x108x128x128.size a) ∧
  (∀ k0_t39 : Fin (k0_t39_loop v228 v257).trips, ∀ (hinb : ∀ a, (k0_off949 v1 k0_t34 v228 v257 k0_t39) a + S1x1x1x16x128.size a ≤ S2x2x108x128x128.size a), (Rect.unit (s := S2x2x108x128x128) (k0_off949 v1 k0_t34 v228 v257 k0_t39) S1x1x1x16x128.size hinb).PackedRows (EltTy.packing .bf16)) ∧
  (∀ k0_t39 : Fin (k0_t39_loop v228 v257).trips, ∀ a, (k0_off950 v1 k0_t34 v228 v257 k0_t39) a + S1x1x1x16x128.size a ≤ S2x2x108x128x128.size a) ∧
  (∀ k0_t39 : Fin (k0_t39_loop v228 v257).trips, ∀ (hinb : ∀ a, (k0_off950 v1 k0_t34 v228 v257 k0_t39) a + S1x1x1x16x128.size a ≤ S2x2x108x128x128.size a), (Rect.unit (s := S2x2x108x128x128) (k0_off950 v1 k0_t34 v228 v257 k0_t39) S1x1x1x16x128.size hinb).PackedRows (EltTy.packing .bf16)) ∧
  (∀ k0_t39 : Fin (k0_t39_loop v228 v257).trips, ∀ a, (k0_off951 v1 k0_t34 v228 v257 k0_t39) a + S1x1x1x16x128.size a ≤ S2x2x108x128x128.size a) ∧
  (∀ k0_t39 : Fin (k0_t39_loop v228 v257).trips, ∀ (hinb : ∀ a, (k0_off951 v1 k0_t34 v228 v257 k0_t39) a + S1x1x1x16x128.size a ≤ S2x2x108x128x128.size a), (Rect.unit (s := S2x2x108x128x128) (k0_off951 v1 k0_t34 v228 v257 k0_t39) S1x1x1x16x128.size hinb).PackedRows (EltTy.packing .bf16)) ∧
  (∀ k0_t39 : Fin (k0_t39_loop v228 v257).trips, ∀ a, (k0_off952 v1 k0_t34 v228 v257 k0_t39) a + S1x1x1x16x128.size a ≤ S2x2x108x128x128.size a) ∧
  (∀ k0_t39 : Fin (k0_t39_loop v228 v257).trips, ∀ (hinb : ∀ a, (k0_off952 v1 k0_t34 v228 v257 k0_t39) a + S1x1x1x16x128.size a ≤ S2x2x108x128x128.size a), (Rect.unit (s := S2x2x108x128x128) (k0_off952 v1 k0_t34 v228 v257 k0_t39) S1x1x1x16x128.size hinb).PackedRows (EltTy.packing .bf16)) ∧
  (∀ k0_t39 : Fin (k0_t39_loop v228 v257).trips, ∀ a, (k0_off953 v1 k0_t34 v228 v257 k0_t39) a + S1x1x1x16x128.size a ≤ S2x2x108x128x128.size a) ∧
  (∀ k0_t39 : Fin (k0_t39_loop v228 v257).trips, ∀ (hinb : ∀ a, (k0_off953 v1 k0_t34 v228 v257 k0_t39) a + S1x1x1x16x128.size a ≤ S2x2x108x128x128.size a), (Rect.unit (s := S2x2x108x128x128) (k0_off953 v1 k0_t34 v228 v257 k0_t39) S1x1x1x16x128.size hinb).PackedRows (EltTy.packing .bf16)) ∧
  (∀ k0_t39 : Fin (k0_t39_loop v228 v257).trips, ∀ a, (k0_off954 v1 k0_t34 v228 v257 k0_t39) a + S1x1x1x16x128.size a ≤ S2x2x108x128x128.size a) ∧
  (∀ k0_t39 : Fin (k0_t39_loop v228 v257).trips, ∀ (hinb : ∀ a, (k0_off954 v1 k0_t34 v228 v257 k0_t39) a + S1x1x1x16x128.size a ≤ S2x2x108x128x128.size a), (Rect.unit (s := S2x2x108x128x128) (k0_off954 v1 k0_t34 v228 v257 k0_t39) S1x1x1x16x128.size hinb).PackedRows (EltTy.packing .bf16)) ∧
  (∀ k0_t39 : Fin (k0_t39_loop v228 v257).trips, ∀ a, (k0_off955 v1 k0_t34 v228 v257 k0_t39) a + S1x1x1x16x128.size a ≤ S2x2x108x128x128.size a) ∧
  (∀ k0_t39 : Fin (k0_t39_loop v228 v257).trips, ∀ (hinb : ∀ a, (k0_off955 v1 k0_t34 v228 v257 k0_t39) a + S1x1x1x16x128.size a ≤ S2x2x108x128x128.size a), (Rect.unit (s := S2x2x108x128x128) (k0_off955 v1 k0_t34 v228 v257 k0_t39) S1x1x1x16x128.size hinb).PackedRows (EltTy.packing .bf16)) ∧
  (∀ k0_t39 : Fin (k0_t39_loop v228 v257).trips, ∀ a, (k0_off956 v1 k0_t34 v228 v257 k0_t39) a + S1x1x1x16x128.size a ≤ S2x2x108x128x128.size a) ∧
  (∀ k0_t39 : Fin (k0_t39_loop v228 v257).trips, ∀ (hinb : ∀ a, (k0_off956 v1 k0_t34 v228 v257 k0_t39) a + S1x1x1x16x128.size a ≤ S2x2x108x128x128.size a), (Rect.unit (s := S2x2x108x128x128) (k0_off956 v1 k0_t34 v228 v257 k0_t39) S1x1x1x16x128.size hinb).PackedRows (EltTy.packing .bf16))
def k0_chk21_18 (v1 : BitVec 32) (k0_t34 : Fin (k0_t34_loop v1).trips) (v228 : BitVec 32) (v257 : BitVec 32) : Prop :=
  (∀ k0_t39 : Fin (k0_t39_loop v228 v257).trips, ∀ a, (k0_off957 v1 k0_t34 v228 v257 k0_t39) a + S1x1x1x16x128.size a ≤ S2x2x108x128x128.size a) ∧
  (∀ k0_t39 : Fin (k0_t39_loop v228 v257).trips, ∀ (hinb : ∀ a, (k0_off957 v1 k0_t34 v228 v257 k0_t39) a + S1x1x1x16x128.size a ≤ S2x2x108x128x128.size a), (Rect.unit (s := S2x2x108x128x128) (k0_off957 v1 k0_t34 v228 v257 k0_t39) S1x1x1x16x128.size hinb).PackedRows (EltTy.packing .bf16)) ∧
  (∀ k0_t39 : Fin (k0_t39_loop v228 v257).trips, ∀ a, (k0_off958 v1 k0_t34 v228 v257 k0_t39) a + S1x1x1x16x128.size a ≤ S2x2x108x128x128.size a) ∧
  (∀ k0_t39 : Fin (k0_t39_loop v228 v257).trips, ∀ (hinb : ∀ a, (k0_off958 v1 k0_t34 v228 v257 k0_t39) a + S1x1x1x16x128.size a ≤ S2x2x108x128x128.size a), (Rect.unit (s := S2x2x108x128x128) (k0_off958 v1 k0_t34 v228 v257 k0_t39) S1x1x1x16x128.size hinb).PackedRows (EltTy.packing .bf16)) ∧
  (∀ k0_t39 : Fin (k0_t39_loop v228 v257).trips, ∀ a, (k0_off959 v1 k0_t34 v228 v257 k0_t39) a + S1x1x1x16x128.size a ≤ S2x2x108x128x128.size a) ∧
  (∀ k0_t39 : Fin (k0_t39_loop v228 v257).trips, ∀ (hinb : ∀ a, (k0_off959 v1 k0_t34 v228 v257 k0_t39) a + S1x1x1x16x128.size a ≤ S2x2x108x128x128.size a), (Rect.unit (s := S2x2x108x128x128) (k0_off959 v1 k0_t34 v228 v257 k0_t39) S1x1x1x16x128.size hinb).PackedRows (EltTy.packing .bf16)) ∧
  (∀ k0_t39 : Fin (k0_t39_loop v228 v257).trips, ∀ a, (k0_off960 v1 k0_t34 v228 v257 k0_t39) a + S1x1x1x16x128.size a ≤ S2x2x108x128x128.size a) ∧
  (∀ k0_t39 : Fin (k0_t39_loop v228 v257).trips, ∀ (hinb : ∀ a, (k0_off960 v1 k0_t34 v228 v257 k0_t39) a + S1x1x1x16x128.size a ≤ S2x2x108x128x128.size a), (Rect.unit (s := S2x2x108x128x128) (k0_off960 v1 k0_t34 v228 v257 k0_t39) S1x1x1x16x128.size hinb).PackedRows (EltTy.packing .bf16)) ∧
  (∀ k0_t39 : Fin (k0_t39_loop v228 v257).trips, ∀ a, (k0_off961 v1 k0_t34 v228 v257 k0_t39) a + S1x1x1x16x128.size a ≤ S2x2x108x128x128.size a) ∧
  (∀ k0_t39 : Fin (k0_t39_loop v228 v257).trips, ∀ (hinb : ∀ a, (k0_off961 v1 k0_t34 v228 v257 k0_t39) a + S1x1x1x16x128.size a ≤ S2x2x108x128x128.size a), (Rect.unit (s := S2x2x108x128x128) (k0_off961 v1 k0_t34 v228 v257 k0_t39) S1x1x1x16x128.size hinb).PackedRows (EltTy.packing .bf16)) ∧
  (∀ k0_t39 : Fin (k0_t39_loop v228 v257).trips, ∀ a, (k0_off962 v1 k0_t34 v228 v257 k0_t39) a + S1x1x1x16x128.size a ≤ S2x2x108x128x128.size a) ∧
  (∀ k0_t39 : Fin (k0_t39_loop v228 v257).trips, ∀ (hinb : ∀ a, (k0_off962 v1 k0_t34 v228 v257 k0_t39) a + S1x1x1x16x128.size a ≤ S2x2x108x128x128.size a), (Rect.unit (s := S2x2x108x128x128) (k0_off962 v1 k0_t34 v228 v257 k0_t39) S1x1x1x16x128.size hinb).PackedRows (EltTy.packing .bf16)) ∧
  (∀ k0_t39 : Fin (k0_t39_loop v228 v257).trips, ∀ a, (k0_off963 v1 k0_t34 v228 v257 k0_t39) a + S1x1x1x16x128.size a ≤ S2x2x108x128x128.size a) ∧
  (∀ k0_t39 : Fin (k0_t39_loop v228 v257).trips, ∀ (hinb : ∀ a, (k0_off963 v1 k0_t34 v228 v257 k0_t39) a + S1x1x1x16x128.size a ≤ S2x2x108x128x128.size a), (Rect.unit (s := S2x2x108x128x128) (k0_off963 v1 k0_t34 v228 v257 k0_t39) S1x1x1x16x128.size hinb).PackedRows (EltTy.packing .bf16)) ∧
  (∀ k0_t39 : Fin (k0_t39_loop v228 v257).trips, ∀ a, (k0_off964 v1 k0_t34 v228 v257 k0_t39) a + S1x1x1x16x128.size a ≤ S2x2x108x128x128.size a) ∧
  (∀ k0_t39 : Fin (k0_t39_loop v228 v257).trips, ∀ (hinb : ∀ a, (k0_off964 v1 k0_t34 v228 v257 k0_t39) a + S1x1x1x16x128.size a ≤ S2x2x108x128x128.size a), (Rect.unit (s := S2x2x108x128x128) (k0_off964 v1 k0_t34 v228 v257 k0_t39) S1x1x1x16x128.size hinb).PackedRows (EltTy.packing .bf16)) ∧
  (∀ k0_t39 : Fin (k0_t39_loop v228 v257).trips, ∀ a, (k0_off965 v1 k0_t34 v228 v257 k0_t39) a + S1x1x1x16x128.size a ≤ S2x2x108x128x128.size a) ∧
  (∀ k0_t39 : Fin (k0_t39_loop v228 v257).trips, ∀ (hinb : ∀ a, (k0_off965 v1 k0_t34 v228 v257 k0_t39) a + S1x1x1x16x128.size a ≤ S2x2x108x128x128.size a), (Rect.unit (s := S2x2x108x128x128) (k0_off965 v1 k0_t34 v228 v257 k0_t39) S1x1x1x16x128.size hinb).PackedRows (EltTy.packing .bf16)) ∧
  (∀ k0_t39 : Fin (k0_t39_loop v228 v257).trips, ∀ a, (k0_off966 v1 k0_t34 v228 v257 k0_t39) a + S1x1x1x16x128.size a ≤ S2x2x108x128x128.size a) ∧
  (∀ k0_t39 : Fin (k0_t39_loop v228 v257).trips, ∀ (hinb : ∀ a, (k0_off966 v1 k0_t34 v228 v257 k0_t39) a + S1x1x1x16x128.size a ≤ S2x2x108x128x128.size a), (Rect.unit (s := S2x2x108x128x128) (k0_off966 v1 k0_t34 v228 v257 k0_t39) S1x1x1x16x128.size hinb).PackedRows (EltTy.packing .bf16)) ∧
  (∀ k0_t39 : Fin (k0_t39_loop v228 v257).trips, ∀ a, (k0_off967 v1 k0_t34 v228 v257 k0_t39) a + S1x1x1x16x128.size a ≤ S2x2x108x128x128.size a) ∧
  (∀ k0_t39 : Fin (k0_t39_loop v228 v257).trips, ∀ (hinb : ∀ a, (k0_off967 v1 k0_t34 v228 v257 k0_t39) a + S1x1x1x16x128.size a ≤ S2x2x108x128x128.size a), (Rect.unit (s := S2x2x108x128x128) (k0_off967 v1 k0_t34 v228 v257 k0_t39) S1x1x1x16x128.size hinb).PackedRows (EltTy.packing .bf16)) ∧
  (∀ k0_t39 : Fin (k0_t39_loop v228 v257).trips, ∀ a, (k0_off968 v1 k0_t34 v228 v257 k0_t39) a + S1x1x1x16x128.size a ≤ S2x2x108x128x128.size a) ∧
  (∀ k0_t39 : Fin (k0_t39_loop v228 v257).trips, ∀ (hinb : ∀ a, (k0_off968 v1 k0_t34 v228 v257 k0_t39) a + S1x1x1x16x128.size a ≤ S2x2x108x128x128.size a), (Rect.unit (s := S2x2x108x128x128) (k0_off968 v1 k0_t34 v228 v257 k0_t39) S1x1x1x16x128.size hinb).PackedRows (EltTy.packing .bf16)) ∧
  (∀ k0_t39 : Fin (k0_t39_loop v228 v257).trips, ∀ a, (k0_off969 v1 k0_t34 v228 v257 k0_t39) a + S1x1x1x16x128.size a ≤ S2x2x108x128x128.size a) ∧
  (∀ k0_t39 : Fin (k0_t39_loop v228 v257).trips, ∀ (hinb : ∀ a, (k0_off969 v1 k0_t34 v228 v257 k0_t39) a + S1x1x1x16x128.size a ≤ S2x2x108x128x128.size a), (Rect.unit (s := S2x2x108x128x128) (k0_off969 v1 k0_t34 v228 v257 k0_t39) S1x1x1x16x128.size hinb).PackedRows (EltTy.packing .bf16)) ∧
  (∀ k0_t39 : Fin (k0_t39_loop v228 v257).trips, ∀ a, (k0_off970 v1 k0_t34 v228 v257 k0_t39) a + S1x1x1x16x128.size a ≤ S2x2x108x128x128.size a) ∧
  (∀ k0_t39 : Fin (k0_t39_loop v228 v257).trips, ∀ (hinb : ∀ a, (k0_off970 v1 k0_t34 v228 v257 k0_t39) a + S1x1x1x16x128.size a ≤ S2x2x108x128x128.size a), (Rect.unit (s := S2x2x108x128x128) (k0_off970 v1 k0_t34 v228 v257 k0_t39) S1x1x1x16x128.size hinb).PackedRows (EltTy.packing .bf16)) ∧
  (∀ k0_t39 : Fin (k0_t39_loop v228 v257).trips, ∀ a, (k0_off971 v1 k0_t34 v228 v257 k0_t39) a + S1x1x1x16x128.size a ≤ S2x2x108x128x128.size a) ∧
  (∀ k0_t39 : Fin (k0_t39_loop v228 v257).trips, ∀ (hinb : ∀ a, (k0_off971 v1 k0_t34 v228 v257 k0_t39) a + S1x1x1x16x128.size a ≤ S2x2x108x128x128.size a), (Rect.unit (s := S2x2x108x128x128) (k0_off971 v1 k0_t34 v228 v257 k0_t39) S1x1x1x16x128.size hinb).PackedRows (EltTy.packing .bf16)) ∧
  (∀ k0_t39 : Fin (k0_t39_loop v228 v257).trips, ∀ a, (k0_off972 v1 k0_t34 v228 v257 k0_t39) a + S1x1x1x16x128.size a ≤ S2x2x108x128x128.size a) ∧
  (∀ k0_t39 : Fin (k0_t39_loop v228 v257).trips, ∀ (hinb : ∀ a, (k0_off972 v1 k0_t34 v228 v257 k0_t39) a + S1x1x1x16x128.size a ≤ S2x2x108x128x128.size a), (Rect.unit (s := S2x2x108x128x128) (k0_off972 v1 k0_t34 v228 v257 k0_t39) S1x1x1x16x128.size hinb).PackedRows (EltTy.packing .bf16))
def k0_chk21_19 (v1 : BitVec 32) (k0_t34 : Fin (k0_t34_loop v1).trips) (v228 : BitVec 32) (v257 : BitVec 32) : Prop :=
  (∀ k0_t39 : Fin (k0_t39_loop v228 v257).trips, ∀ a, (k0_off973 v1 k0_t34 v228 v257 k0_t39) a + S1x1x1x16x128.size a ≤ S2x2x108x128x128.size a) ∧
  (∀ k0_t39 : Fin (k0_t39_loop v228 v257).trips, ∀ (hinb : ∀ a, (k0_off973 v1 k0_t34 v228 v257 k0_t39) a + S1x1x1x16x128.size a ≤ S2x2x108x128x128.size a), (Rect.unit (s := S2x2x108x128x128) (k0_off973 v1 k0_t34 v228 v257 k0_t39) S1x1x1x16x128.size hinb).PackedRows (EltTy.packing .bf16)) ∧
  (∀ k0_t39 : Fin (k0_t39_loop v228 v257).trips, ∀ a, (k0_off974 v1 k0_t34 v228 v257 k0_t39) a + S1x1x1x16x128.size a ≤ S2x2x108x128x128.size a) ∧
  (∀ k0_t39 : Fin (k0_t39_loop v228 v257).trips, ∀ (hinb : ∀ a, (k0_off974 v1 k0_t34 v228 v257 k0_t39) a + S1x1x1x16x128.size a ≤ S2x2x108x128x128.size a), (Rect.unit (s := S2x2x108x128x128) (k0_off974 v1 k0_t34 v228 v257 k0_t39) S1x1x1x16x128.size hinb).PackedRows (EltTy.packing .bf16)) ∧
  (∀ k0_t39 : Fin (k0_t39_loop v228 v257).trips, ∀ a, (k0_off975 v1 k0_t34 v228 v257 k0_t39) a + S1x1x1x16x128.size a ≤ S2x2x108x128x128.size a) ∧
  (∀ k0_t39 : Fin (k0_t39_loop v228 v257).trips, ∀ (hinb : ∀ a, (k0_off975 v1 k0_t34 v228 v257 k0_t39) a + S1x1x1x16x128.size a ≤ S2x2x108x128x128.size a), (Rect.unit (s := S2x2x108x128x128) (k0_off975 v1 k0_t34 v228 v257 k0_t39) S1x1x1x16x128.size hinb).PackedRows (EltTy.packing .bf16)) ∧
  (∀ k0_t39 : Fin (k0_t39_loop v228 v257).trips, ∀ a, (k0_off976 v1 k0_t34 v228 v257 k0_t39) a + S1x1x1x16x128.size a ≤ S2x2x108x128x128.size a) ∧
  (∀ k0_t39 : Fin (k0_t39_loop v228 v257).trips, ∀ (hinb : ∀ a, (k0_off976 v1 k0_t34 v228 v257 k0_t39) a + S1x1x1x16x128.size a ≤ S2x2x108x128x128.size a), (Rect.unit (s := S2x2x108x128x128) (k0_off976 v1 k0_t34 v228 v257 k0_t39) S1x1x1x16x128.size hinb).PackedRows (EltTy.packing .bf16)) ∧
  (∀ k0_t39 : Fin (k0_t39_loop v228 v257).trips, ∀ a, (k0_off977 v1 k0_t34 v228 v257 k0_t39) a + S1x1x1x16x128.size a ≤ S2x2x108x128x128.size a) ∧
  (∀ k0_t39 : Fin (k0_t39_loop v228 v257).trips, ∀ (hinb : ∀ a, (k0_off977 v1 k0_t34 v228 v257 k0_t39) a + S1x1x1x16x128.size a ≤ S2x2x108x128x128.size a), (Rect.unit (s := S2x2x108x128x128) (k0_off977 v1 k0_t34 v228 v257 k0_t39) S1x1x1x16x128.size hinb).PackedRows (EltTy.packing .bf16)) ∧
  (∀ k0_t39 : Fin (k0_t39_loop v228 v257).trips, ∀ a, (k0_off978 v1 k0_t34 v228 v257 k0_t39) a + S1x1x1x16x128.size a ≤ S2x2x108x128x128.size a) ∧
  (∀ k0_t39 : Fin (k0_t39_loop v228 v257).trips, ∀ (hinb : ∀ a, (k0_off978 v1 k0_t34 v228 v257 k0_t39) a + S1x1x1x16x128.size a ≤ S2x2x108x128x128.size a), (Rect.unit (s := S2x2x108x128x128) (k0_off978 v1 k0_t34 v228 v257 k0_t39) S1x1x1x16x128.size hinb).PackedRows (EltTy.packing .bf16)) ∧
  (∀ k0_t39 : Fin (k0_t39_loop v228 v257).trips, ∀ a, (k0_off979 v1 k0_t34 v228 v257 k0_t39) a + S1x1x1x16x128.size a ≤ S2x2x108x128x128.size a) ∧
  (∀ k0_t39 : Fin (k0_t39_loop v228 v257).trips, ∀ (hinb : ∀ a, (k0_off979 v1 k0_t34 v228 v257 k0_t39) a + S1x1x1x16x128.size a ≤ S2x2x108x128x128.size a), (Rect.unit (s := S2x2x108x128x128) (k0_off979 v1 k0_t34 v228 v257 k0_t39) S1x1x1x16x128.size hinb).PackedRows (EltTy.packing .bf16)) ∧
  (∀ k0_t39 : Fin (k0_t39_loop v228 v257).trips, ∀ a, (k0_off980 v1 k0_t34 v228 v257 k0_t39) a + S1x1x1x16x128.size a ≤ S2x2x108x128x128.size a) ∧
  (∀ k0_t39 : Fin (k0_t39_loop v228 v257).trips, ∀ (hinb : ∀ a, (k0_off980 v1 k0_t34 v228 v257 k0_t39) a + S1x1x1x16x128.size a ≤ S2x2x108x128x128.size a), (Rect.unit (s := S2x2x108x128x128) (k0_off980 v1 k0_t34 v228 v257 k0_t39) S1x1x1x16x128.size hinb).PackedRows (EltTy.packing .bf16)) ∧
  (∀ k0_t39 : Fin (k0_t39_loop v228 v257).trips, ∀ a, (k0_off981 v1 k0_t34 v228 v257 k0_t39) a + S1x1x1x16x128.size a ≤ S2x2x108x128x128.size a) ∧
  (∀ k0_t39 : Fin (k0_t39_loop v228 v257).trips, ∀ (hinb : ∀ a, (k0_off981 v1 k0_t34 v228 v257 k0_t39) a + S1x1x1x16x128.size a ≤ S2x2x108x128x128.size a), (Rect.unit (s := S2x2x108x128x128) (k0_off981 v1 k0_t34 v228 v257 k0_t39) S1x1x1x16x128.size hinb).PackedRows (EltTy.packing .bf16)) ∧
  (∀ k0_t39 : Fin (k0_t39_loop v228 v257).trips, ∀ a, (k0_off982 v1 k0_t34 v228 v257 k0_t39) a + S1x1x1x16x128.size a ≤ S2x2x108x128x128.size a) ∧
  (∀ k0_t39 : Fin (k0_t39_loop v228 v257).trips, ∀ (hinb : ∀ a, (k0_off982 v1 k0_t34 v228 v257 k0_t39) a + S1x1x1x16x128.size a ≤ S2x2x108x128x128.size a), (Rect.unit (s := S2x2x108x128x128) (k0_off982 v1 k0_t34 v228 v257 k0_t39) S1x1x1x16x128.size hinb).PackedRows (EltTy.packing .bf16)) ∧
  (∀ k0_t39 : Fin (k0_t39_loop v228 v257).trips, ∀ a, (k0_off983 v1 k0_t34 v228 v257 k0_t39) a + S1x1x1x16x128.size a ≤ S2x2x108x128x128.size a) ∧
  (∀ k0_t39 : Fin (k0_t39_loop v228 v257).trips, ∀ (hinb : ∀ a, (k0_off983 v1 k0_t34 v228 v257 k0_t39) a + S1x1x1x16x128.size a ≤ S2x2x108x128x128.size a), (Rect.unit (s := S2x2x108x128x128) (k0_off983 v1 k0_t34 v228 v257 k0_t39) S1x1x1x16x128.size hinb).PackedRows (EltTy.packing .bf16)) ∧
  (∀ k0_t39 : Fin (k0_t39_loop v228 v257).trips, ∀ a, (k0_off984 v1 k0_t34 v228 v257 k0_t39) a + S1x1x1x16x128.size a ≤ S2x2x108x128x128.size a) ∧
  (∀ k0_t39 : Fin (k0_t39_loop v228 v257).trips, ∀ (hinb : ∀ a, (k0_off984 v1 k0_t34 v228 v257 k0_t39) a + S1x1x1x16x128.size a ≤ S2x2x108x128x128.size a), (Rect.unit (s := S2x2x108x128x128) (k0_off984 v1 k0_t34 v228 v257 k0_t39) S1x1x1x16x128.size hinb).PackedRows (EltTy.packing .bf16)) ∧
  (∀ k0_t39 : Fin (k0_t39_loop v228 v257).trips, ∀ a, (k0_off985 v1 k0_t34 v228 v257 k0_t39) a + S1x1x1x16x128.size a ≤ S2x2x108x128x128.size a) ∧
  (∀ k0_t39 : Fin (k0_t39_loop v228 v257).trips, ∀ (hinb : ∀ a, (k0_off985 v1 k0_t34 v228 v257 k0_t39) a + S1x1x1x16x128.size a ≤ S2x2x108x128x128.size a), (Rect.unit (s := S2x2x108x128x128) (k0_off985 v1 k0_t34 v228 v257 k0_t39) S1x1x1x16x128.size hinb).PackedRows (EltTy.packing .bf16)) ∧
  (∀ k0_t39 : Fin (k0_t39_loop v228 v257).trips, ∀ a, (k0_off986 v1 k0_t34 v228 v257 k0_t39) a + S1x1x1x16x128.size a ≤ S2x2x108x128x128.size a) ∧
  (∀ k0_t39 : Fin (k0_t39_loop v228 v257).trips, ∀ (hinb : ∀ a, (k0_off986 v1 k0_t34 v228 v257 k0_t39) a + S1x1x1x16x128.size a ≤ S2x2x108x128x128.size a), (Rect.unit (s := S2x2x108x128x128) (k0_off986 v1 k0_t34 v228 v257 k0_t39) S1x1x1x16x128.size hinb).PackedRows (EltTy.packing .bf16)) ∧
  (∀ k0_t39 : Fin (k0_t39_loop v228 v257).trips, ∀ a, (k0_off987 v1 k0_t34 v228 v257 k0_t39) a + S1x1x1x16x128.size a ≤ S2x2x108x128x128.size a) ∧
  (∀ k0_t39 : Fin (k0_t39_loop v228 v257).trips, ∀ (hinb : ∀ a, (k0_off987 v1 k0_t34 v228 v257 k0_t39) a + S1x1x1x16x128.size a ≤ S2x2x108x128x128.size a), (Rect.unit (s := S2x2x108x128x128) (k0_off987 v1 k0_t34 v228 v257 k0_t39) S1x1x1x16x128.size hinb).PackedRows (EltTy.packing .bf16)) ∧
  (∀ k0_t39 : Fin (k0_t39_loop v228 v257).trips, ∀ a, (k0_off988 v1 k0_t34 v228 v257 k0_t39) a + S1x1x1x16x128.size a ≤ S2x2x108x128x128.size a) ∧
  (∀ k0_t39 : Fin (k0_t39_loop v228 v257).trips, ∀ (hinb : ∀ a, (k0_off988 v1 k0_t34 v228 v257 k0_t39) a + S1x1x1x16x128.size a ≤ S2x2x108x128x128.size a), (Rect.unit (s := S2x2x108x128x128) (k0_off988 v1 k0_t34 v228 v257 k0_t39) S1x1x1x16x128.size hinb).PackedRows (EltTy.packing .bf16))
def k0_chk21_20 (v1 : BitVec 32) (k0_t34 : Fin (k0_t34_loop v1).trips) (v228 : BitVec 32) (v257 : BitVec 32) : Prop :=
  (∀ k0_t39 : Fin (k0_t39_loop v228 v257).trips, ∀ a, (k0_off989 v1 k0_t34 v228 v257 k0_t39) a + S1x1x1x16x128.size a ≤ S2x2x108x128x128.size a) ∧
  (∀ k0_t39 : Fin (k0_t39_loop v228 v257).trips, ∀ (hinb : ∀ a, (k0_off989 v1 k0_t34 v228 v257 k0_t39) a + S1x1x1x16x128.size a ≤ S2x2x108x128x128.size a), (Rect.unit (s := S2x2x108x128x128) (k0_off989 v1 k0_t34 v228 v257 k0_t39) S1x1x1x16x128.size hinb).PackedRows (EltTy.packing .bf16)) ∧
  (∀ k0_t39 : Fin (k0_t39_loop v228 v257).trips, ∀ a, (k0_off990 v1 k0_t34 v228 v257 k0_t39) a + S1x1x1x16x128.size a ≤ S2x2x108x128x128.size a) ∧
  (∀ k0_t39 : Fin (k0_t39_loop v228 v257).trips, ∀ (hinb : ∀ a, (k0_off990 v1 k0_t34 v228 v257 k0_t39) a + S1x1x1x16x128.size a ≤ S2x2x108x128x128.size a), (Rect.unit (s := S2x2x108x128x128) (k0_off990 v1 k0_t34 v228 v257 k0_t39) S1x1x1x16x128.size hinb).PackedRows (EltTy.packing .bf16)) ∧
  (∀ k0_t39 : Fin (k0_t39_loop v228 v257).trips, ∀ a, (k0_off991 v1 k0_t34 v228 v257 k0_t39) a + S1x1x1x16x128.size a ≤ S2x2x108x128x128.size a) ∧
  (∀ k0_t39 : Fin (k0_t39_loop v228 v257).trips, ∀ (hinb : ∀ a, (k0_off991 v1 k0_t34 v228 v257 k0_t39) a + S1x1x1x16x128.size a ≤ S2x2x108x128x128.size a), (Rect.unit (s := S2x2x108x128x128) (k0_off991 v1 k0_t34 v228 v257 k0_t39) S1x1x1x16x128.size hinb).PackedRows (EltTy.packing .bf16)) ∧
  (∀ k0_t39 : Fin (k0_t39_loop v228 v257).trips, ∀ a, (k0_off992 v1 k0_t34 v228 v257 k0_t39) a + S1x1x1x16x128.size a ≤ S2x2x108x128x128.size a) ∧
  (∀ k0_t39 : Fin (k0_t39_loop v228 v257).trips, ∀ (hinb : ∀ a, (k0_off992 v1 k0_t34 v228 v257 k0_t39) a + S1x1x1x16x128.size a ≤ S2x2x108x128x128.size a), (Rect.unit (s := S2x2x108x128x128) (k0_off992 v1 k0_t34 v228 v257 k0_t39) S1x1x1x16x128.size hinb).PackedRows (EltTy.packing .bf16)) ∧
  (∀ k0_t39 : Fin (k0_t39_loop v228 v257).trips, ∀ a, (k0_off993 v1 k0_t34 v228 v257 k0_t39) a + S1x1x1x16x128.size a ≤ S2x2x108x128x128.size a) ∧
  (∀ k0_t39 : Fin (k0_t39_loop v228 v257).trips, ∀ (hinb : ∀ a, (k0_off993 v1 k0_t34 v228 v257 k0_t39) a + S1x1x1x16x128.size a ≤ S2x2x108x128x128.size a), (Rect.unit (s := S2x2x108x128x128) (k0_off993 v1 k0_t34 v228 v257 k0_t39) S1x1x1x16x128.size hinb).PackedRows (EltTy.packing .bf16)) ∧
  (∀ k0_t39 : Fin (k0_t39_loop v228 v257).trips, ∀ a, (k0_off994 v1 k0_t34 v228 v257 k0_t39) a + S1x1x1x16x128.size a ≤ S2x2x108x128x128.size a) ∧
  (∀ k0_t39 : Fin (k0_t39_loop v228 v257).trips, ∀ (hinb : ∀ a, (k0_off994 v1 k0_t34 v228 v257 k0_t39) a + S1x1x1x16x128.size a ≤ S2x2x108x128x128.size a), (Rect.unit (s := S2x2x108x128x128) (k0_off994 v1 k0_t34 v228 v257 k0_t39) S1x1x1x16x128.size hinb).PackedRows (EltTy.packing .bf16)) ∧
  (∀ k0_t39 : Fin (k0_t39_loop v228 v257).trips, ∀ a, (k0_off995 v1 k0_t34 v228 v257 k0_t39) a + S1x1x1x16x128.size a ≤ S2x2x108x128x128.size a) ∧
  (∀ k0_t39 : Fin (k0_t39_loop v228 v257).trips, ∀ (hinb : ∀ a, (k0_off995 v1 k0_t34 v228 v257 k0_t39) a + S1x1x1x16x128.size a ≤ S2x2x108x128x128.size a), (Rect.unit (s := S2x2x108x128x128) (k0_off995 v1 k0_t34 v228 v257 k0_t39) S1x1x1x16x128.size hinb).PackedRows (EltTy.packing .bf16)) ∧
  (∀ k0_t39 : Fin (k0_t39_loop v228 v257).trips, ∀ a, (k0_off996 v1 k0_t34 v228 v257 k0_t39) a + S1x1x1x16x128.size a ≤ S2x2x108x128x128.size a) ∧
  (∀ k0_t39 : Fin (k0_t39_loop v228 v257).trips, ∀ (hinb : ∀ a, (k0_off996 v1 k0_t34 v228 v257 k0_t39) a + S1x1x1x16x128.size a ≤ S2x2x108x128x128.size a), (Rect.unit (s := S2x2x108x128x128) (k0_off996 v1 k0_t34 v228 v257 k0_t39) S1x1x1x16x128.size hinb).PackedRows (EltTy.packing .bf16)) ∧
  (∀ k0_t39 : Fin (k0_t39_loop v228 v257).trips, ∀ a, (k0_off997 v1 k0_t34 v228 v257 k0_t39) a + S1x1x1x16x128.size a ≤ S2x2x108x128x128.size a) ∧
  (∀ k0_t39 : Fin (k0_t39_loop v228 v257).trips, ∀ (hinb : ∀ a, (k0_off997 v1 k0_t34 v228 v257 k0_t39) a + S1x1x1x16x128.size a ≤ S2x2x108x128x128.size a), (Rect.unit (s := S2x2x108x128x128) (k0_off997 v1 k0_t34 v228 v257 k0_t39) S1x1x1x16x128.size hinb).PackedRows (EltTy.packing .bf16)) ∧
  (∀ k0_t39 : Fin (k0_t39_loop v228 v257).trips, ∀ a, (k0_off998 v1 k0_t34 v228 v257 k0_t39) a + S1x1x1x16x128.size a ≤ S2x2x108x128x128.size a) ∧
  (∀ k0_t39 : Fin (k0_t39_loop v228 v257).trips, ∀ (hinb : ∀ a, (k0_off998 v1 k0_t34 v228 v257 k0_t39) a + S1x1x1x16x128.size a ≤ S2x2x108x128x128.size a), (Rect.unit (s := S2x2x108x128x128) (k0_off998 v1 k0_t34 v228 v257 k0_t39) S1x1x1x16x128.size hinb).PackedRows (EltTy.packing .bf16)) ∧
  (∀ k0_t39 : Fin (k0_t39_loop v228 v257).trips, ∀ a, (k0_off999 v1 k0_t34 v228 v257 k0_t39) a + S1x1x1x16x128.size a ≤ S2x2x108x128x128.size a) ∧
  (∀ k0_t39 : Fin (k0_t39_loop v228 v257).trips, ∀ (hinb : ∀ a, (k0_off999 v1 k0_t34 v228 v257 k0_t39) a + S1x1x1x16x128.size a ≤ S2x2x108x128x128.size a), (Rect.unit (s := S2x2x108x128x128) (k0_off999 v1 k0_t34 v228 v257 k0_t39) S1x1x1x16x128.size hinb).PackedRows (EltTy.packing .bf16)) ∧
  (∀ k0_t39 : Fin (k0_t39_loop v228 v257).trips, ∀ a, (k0_off1000 v1 k0_t34 v228 v257 k0_t39) a + S1x1x1x16x128.size a ≤ S2x2x108x128x128.size a) ∧
  (∀ k0_t39 : Fin (k0_t39_loop v228 v257).trips, ∀ (hinb : ∀ a, (k0_off1000 v1 k0_t34 v228 v257 k0_t39) a + S1x1x1x16x128.size a ≤ S2x2x108x128x128.size a), (Rect.unit (s := S2x2x108x128x128) (k0_off1000 v1 k0_t34 v228 v257 k0_t39) S1x1x1x16x128.size hinb).PackedRows (EltTy.packing .bf16)) ∧
  (∀ k0_t39 : Fin (k0_t39_loop v228 v257).trips, ∀ a, (k0_off1001 v1 k0_t34 v228 v257 k0_t39) a + S1x1x1x16x128.size a ≤ S2x2x108x128x128.size a) ∧
  (∀ k0_t39 : Fin (k0_t39_loop v228 v257).trips, ∀ (hinb : ∀ a, (k0_off1001 v1 k0_t34 v228 v257 k0_t39) a + S1x1x1x16x128.size a ≤ S2x2x108x128x128.size a), (Rect.unit (s := S2x2x108x128x128) (k0_off1001 v1 k0_t34 v228 v257 k0_t39) S1x1x1x16x128.size hinb).PackedRows (EltTy.packing .bf16)) ∧
  (∀ k0_t39 : Fin (k0_t39_loop v228 v257).trips, ∀ a, (k0_off1002 v1 k0_t34 v228 v257 k0_t39) a + S1x1x1x16x128.size a ≤ S2x2x108x128x128.size a) ∧
  (∀ k0_t39 : Fin (k0_t39_loop v228 v257).trips, ∀ (hinb : ∀ a, (k0_off1002 v1 k0_t34 v228 v257 k0_t39) a + S1x1x1x16x128.size a ≤ S2x2x108x128x128.size a), (Rect.unit (s := S2x2x108x128x128) (k0_off1002 v1 k0_t34 v228 v257 k0_t39) S1x1x1x16x128.size hinb).PackedRows (EltTy.packing .bf16)) ∧
  (∀ k0_t39 : Fin (k0_t39_loop v228 v257).trips, ∀ a, (k0_off1003 v1 k0_t34 v228 v257 k0_t39) a + S1x1x1x16x128.size a ≤ S2x2x108x128x128.size a) ∧
  (∀ k0_t39 : Fin (k0_t39_loop v228 v257).trips, ∀ (hinb : ∀ a, (k0_off1003 v1 k0_t34 v228 v257 k0_t39) a + S1x1x1x16x128.size a ≤ S2x2x108x128x128.size a), (Rect.unit (s := S2x2x108x128x128) (k0_off1003 v1 k0_t34 v228 v257 k0_t39) S1x1x1x16x128.size hinb).PackedRows (EltTy.packing .bf16)) ∧
  (∀ k0_t39 : Fin (k0_t39_loop v228 v257).trips, ∀ a, (k0_off1004 v1 k0_t34 v228 v257 k0_t39) a + S1x1x1x16x128.size a ≤ S2x2x108x128x128.size a) ∧
  (∀ k0_t39 : Fin (k0_t39_loop v228 v257).trips, ∀ (hinb : ∀ a, (k0_off1004 v1 k0_t34 v228 v257 k0_t39) a + S1x1x1x16x128.size a ≤ S2x2x108x128x128.size a), (Rect.unit (s := S2x2x108x128x128) (k0_off1004 v1 k0_t34 v228 v257 k0_t39) S1x1x1x16x128.size hinb).PackedRows (EltTy.packing .bf16))
def k0_chk21_21 (v1 : BitVec 32) (k0_t34 : Fin (k0_t34_loop v1).trips) (v228 : BitVec 32) (v257 : BitVec 32) : Prop :=
  (∀ k0_t39 : Fin (k0_t39_loop v228 v257).trips, ∀ a, (k0_off1005 v1 k0_t34 v228 v257 k0_t39) a + S1x1x1x16x128.size a ≤ S2x2x108x128x128.size a) ∧
  (∀ k0_t39 : Fin (k0_t39_loop v228 v257).trips, ∀ (hinb : ∀ a, (k0_off1005 v1 k0_t34 v228 v257 k0_t39) a + S1x1x1x16x128.size a ≤ S2x2x108x128x128.size a), (Rect.unit (s := S2x2x108x128x128) (k0_off1005 v1 k0_t34 v228 v257 k0_t39) S1x1x1x16x128.size hinb).PackedRows (EltTy.packing .bf16)) ∧
  (∀ k0_t39 : Fin (k0_t39_loop v228 v257).trips, ∀ a, (k0_off1006 v1 k0_t34 v228 v257 k0_t39) a + S1x1x1x16x128.size a ≤ S2x2x108x128x128.size a) ∧
  (∀ k0_t39 : Fin (k0_t39_loop v228 v257).trips, ∀ (hinb : ∀ a, (k0_off1006 v1 k0_t34 v228 v257 k0_t39) a + S1x1x1x16x128.size a ≤ S2x2x108x128x128.size a), (Rect.unit (s := S2x2x108x128x128) (k0_off1006 v1 k0_t34 v228 v257 k0_t39) S1x1x1x16x128.size hinb).PackedRows (EltTy.packing .bf16)) ∧
  (∀ k0_t39 : Fin (k0_t39_loop v228 v257).trips, ∀ a, (k0_off1007 v1 k0_t34 v228 v257 k0_t39) a + S1x1x1x16x128.size a ≤ S2x2x108x128x128.size a) ∧
  (∀ k0_t39 : Fin (k0_t39_loop v228 v257).trips, ∀ (hinb : ∀ a, (k0_off1007 v1 k0_t34 v228 v257 k0_t39) a + S1x1x1x16x128.size a ≤ S2x2x108x128x128.size a), (Rect.unit (s := S2x2x108x128x128) (k0_off1007 v1 k0_t34 v228 v257 k0_t39) S1x1x1x16x128.size hinb).PackedRows (EltTy.packing .bf16)) ∧
  (∀ k0_t39 : Fin (k0_t39_loop v228 v257).trips, ∀ a, (k0_off1008 v1 k0_t34 v228 v257 k0_t39) a + S1x1x1x16x128.size a ≤ S2x2x108x128x128.size a) ∧
  (∀ k0_t39 : Fin (k0_t39_loop v228 v257).trips, ∀ (hinb : ∀ a, (k0_off1008 v1 k0_t34 v228 v257 k0_t39) a + S1x1x1x16x128.size a ≤ S2x2x108x128x128.size a), (Rect.unit (s := S2x2x108x128x128) (k0_off1008 v1 k0_t34 v228 v257 k0_t39) S1x1x1x16x128.size hinb).PackedRows (EltTy.packing .bf16)) ∧
  (∀ k0_t39 : Fin (k0_t39_loop v228 v257).trips, ∀ a, (k0_off1009 v1 k0_t34 v228 v257 k0_t39) a + S1x1x1x16x128.size a ≤ S2x2x108x128x128.size a) ∧
  (∀ k0_t39 : Fin (k0_t39_loop v228 v257).trips, ∀ (hinb : ∀ a, (k0_off1009 v1 k0_t34 v228 v257 k0_t39) a + S1x1x1x16x128.size a ≤ S2x2x108x128x128.size a), (Rect.unit (s := S2x2x108x128x128) (k0_off1009 v1 k0_t34 v228 v257 k0_t39) S1x1x1x16x128.size hinb).PackedRows (EltTy.packing .bf16)) ∧
  (∀ k0_t39 : Fin (k0_t39_loop v228 v257).trips, ∀ a, (k0_off1010 v1 k0_t34 v228 v257 k0_t39) a + S1x1x1x16x128.size a ≤ S2x2x108x128x128.size a) ∧
  (∀ k0_t39 : Fin (k0_t39_loop v228 v257).trips, ∀ (hinb : ∀ a, (k0_off1010 v1 k0_t34 v228 v257 k0_t39) a + S1x1x1x16x128.size a ≤ S2x2x108x128x128.size a), (Rect.unit (s := S2x2x108x128x128) (k0_off1010 v1 k0_t34 v228 v257 k0_t39) S1x1x1x16x128.size hinb).PackedRows (EltTy.packing .bf16)) ∧
  (∀ k0_t39 : Fin (k0_t39_loop v228 v257).trips, ∀ a, (k0_off1011 v1 k0_t34 v228 v257 k0_t39) a + S1x1x1x16x128.size a ≤ S2x2x108x128x128.size a) ∧
  (∀ k0_t39 : Fin (k0_t39_loop v228 v257).trips, ∀ (hinb : ∀ a, (k0_off1011 v1 k0_t34 v228 v257 k0_t39) a + S1x1x1x16x128.size a ≤ S2x2x108x128x128.size a), (Rect.unit (s := S2x2x108x128x128) (k0_off1011 v1 k0_t34 v228 v257 k0_t39) S1x1x1x16x128.size hinb).PackedRows (EltTy.packing .bf16)) ∧
  (∀ k0_t39 : Fin (k0_t39_loop v228 v257).trips, ∀ a, (k0_off1012 v1 k0_t34 v228 v257 k0_t39) a + S1x1x1x16x128.size a ≤ S2x2x108x128x128.size a) ∧
  (∀ k0_t39 : Fin (k0_t39_loop v228 v257).trips, ∀ (hinb : ∀ a, (k0_off1012 v1 k0_t34 v228 v257 k0_t39) a + S1x1x1x16x128.size a ≤ S2x2x108x128x128.size a), (Rect.unit (s := S2x2x108x128x128) (k0_off1012 v1 k0_t34 v228 v257 k0_t39) S1x1x1x16x128.size hinb).PackedRows (EltTy.packing .bf16)) ∧
  (∀ k0_t39 : Fin (k0_t39_loop v228 v257).trips, ∀ a, (k0_off1013 v1 k0_t34 v228 v257 k0_t39) a + S1x1x1x16x128.size a ≤ S2x2x108x128x128.size a) ∧
  (∀ k0_t39 : Fin (k0_t39_loop v228 v257).trips, ∀ (hinb : ∀ a, (k0_off1013 v1 k0_t34 v228 v257 k0_t39) a + S1x1x1x16x128.size a ≤ S2x2x108x128x128.size a), (Rect.unit (s := S2x2x108x128x128) (k0_off1013 v1 k0_t34 v228 v257 k0_t39) S1x1x1x16x128.size hinb).PackedRows (EltTy.packing .bf16)) ∧
  (∀ k0_t39 : Fin (k0_t39_loop v228 v257).trips, ∀ a, (k0_off1014 v1 k0_t34 v228 v257 k0_t39) a + S1x1x1x16x128.size a ≤ S2x2x108x128x128.size a) ∧
  (∀ k0_t39 : Fin (k0_t39_loop v228 v257).trips, ∀ (hinb : ∀ a, (k0_off1014 v1 k0_t34 v228 v257 k0_t39) a + S1x1x1x16x128.size a ≤ S2x2x108x128x128.size a), (Rect.unit (s := S2x2x108x128x128) (k0_off1014 v1 k0_t34 v228 v257 k0_t39) S1x1x1x16x128.size hinb).PackedRows (EltTy.packing .bf16)) ∧
  (∀ k0_t39 : Fin (k0_t39_loop v228 v257).trips, ∀ a, (k0_off1015 v1 k0_t34 v228 v257 k0_t39) a + S1x1x1x16x128.size a ≤ S2x2x108x128x128.size a) ∧
  (∀ k0_t39 : Fin (k0_t39_loop v228 v257).trips, ∀ (hinb : ∀ a, (k0_off1015 v1 k0_t34 v228 v257 k0_t39) a + S1x1x1x16x128.size a ≤ S2x2x108x128x128.size a), (Rect.unit (s := S2x2x108x128x128) (k0_off1015 v1 k0_t34 v228 v257 k0_t39) S1x1x1x16x128.size hinb).PackedRows (EltTy.packing .bf16)) ∧
  (∀ k0_t39 : Fin (k0_t39_loop v228 v257).trips, ∀ a, (k0_off1016 v1 k0_t34 v228 v257 k0_t39) a + S1x1x1x16x128.size a ≤ S2x2x108x128x128.size a) ∧
  (∀ k0_t39 : Fin (k0_t39_loop v228 v257).trips, ∀ (hinb : ∀ a, (k0_off1016 v1 k0_t34 v228 v257 k0_t39) a + S1x1x1x16x128.size a ≤ S2x2x108x128x128.size a), (Rect.unit (s := S2x2x108x128x128) (k0_off1016 v1 k0_t34 v228 v257 k0_t39) S1x1x1x16x128.size hinb).PackedRows (EltTy.packing .bf16)) ∧
  (∀ k0_t39 : Fin (k0_t39_loop v228 v257).trips, ∀ a, (k0_off1017 v1 k0_t34 v228 v257 k0_t39) a + S1x1x1x16x128.size a ≤ S2x2x108x128x128.size a) ∧
  (∀ k0_t39 : Fin (k0_t39_loop v228 v257).trips, ∀ (hinb : ∀ a, (k0_off1017 v1 k0_t34 v228 v257 k0_t39) a + S1x1x1x16x128.size a ≤ S2x2x108x128x128.size a), (Rect.unit (s := S2x2x108x128x128) (k0_off1017 v1 k0_t34 v228 v257 k0_t39) S1x1x1x16x128.size hinb).PackedRows (EltTy.packing .bf16)) ∧
  (∀ k0_t39 : Fin (k0_t39_loop v228 v257).trips, ∀ a, (k0_off1018 v1 k0_t34 v228 v257 k0_t39) a + S1x1x1x16x128.size a ≤ S2x2x108x128x128.size a) ∧
  (∀ k0_t39 : Fin (k0_t39_loop v228 v257).trips, ∀ (hinb : ∀ a, (k0_off1018 v1 k0_t34 v228 v257 k0_t39) a + S1x1x1x16x128.size a ≤ S2x2x108x128x128.size a), (Rect.unit (s := S2x2x108x128x128) (k0_off1018 v1 k0_t34 v228 v257 k0_t39) S1x1x1x16x128.size hinb).PackedRows (EltTy.packing .bf16)) ∧
  (∀ k0_t39 : Fin (k0_t39_loop v228 v257).trips, ∀ a, (k0_off1019 v1 k0_t34 v228 v257 k0_t39) a + S1x1x1x16x128.size a ≤ S2x2x108x128x128.size a) ∧
  (∀ k0_t39 : Fin (k0_t39_loop v228 v257).trips, ∀ (hinb : ∀ a, (k0_off1019 v1 k0_t34 v228 v257 k0_t39) a + S1x1x1x16x128.size a ≤ S2x2x108x128x128.size a), (Rect.unit (s := S2x2x108x128x128) (k0_off1019 v1 k0_t34 v228 v257 k0_t39) S1x1x1x16x128.size hinb).PackedRows (EltTy.packing .bf16)) ∧
  (∀ k0_t39 : Fin (k0_t39_loop v228 v257).trips, ∀ a, (k0_off1020 v1 k0_t34 v228 v257 k0_t39) a + S1x1x1x16x128.size a ≤ S2x2x108x128x128.size a) ∧
  (∀ k0_t39 : Fin (k0_t39_loop v228 v257).trips, ∀ (hinb : ∀ a, (k0_off1020 v1 k0_t34 v228 v257 k0_t39) a + S1x1x1x16x128.size a ≤ S2x2x108x128x128.size a), (Rect.unit (s := S2x2x108x128x128) (k0_off1020 v1 k0_t34 v228 v257 k0_t39) S1x1x1x16x128.size hinb).PackedRows (EltTy.packing .bf16))
def k0_chk21_22 (v1 : BitVec 32) (k0_t34 : Fin (k0_t34_loop v1).trips) (v228 : BitVec 32) (v257 : BitVec 32) : Prop :=
  (∀ k0_t39 : Fin (k0_t39_loop v228 v257).trips, ∀ a, (k0_off1021 v1 k0_t34 v228 v257 k0_t39) a + S1x1x1x16x128.size a ≤ S2x2x108x128x128.size a) ∧
  (∀ k0_t39 : Fin (k0_t39_loop v228 v257).trips, ∀ (hinb : ∀ a, (k0_off1021 v1 k0_t34 v228 v257 k0_t39) a + S1x1x1x16x128.size a ≤ S2x2x108x128x128.size a), (Rect.unit (s := S2x2x108x128x128) (k0_off1021 v1 k0_t34 v228 v257 k0_t39) S1x1x1x16x128.size hinb).PackedRows (EltTy.packing .bf16)) ∧
  (∀ k0_t39 : Fin (k0_t39_loop v228 v257).trips, ∀ a, (k0_off1022 v1 k0_t34 v228 v257 k0_t39) a + S1x1x1x16x128.size a ≤ S2x2x108x128x128.size a) ∧
  (∀ k0_t39 : Fin (k0_t39_loop v228 v257).trips, ∀ (hinb : ∀ a, (k0_off1022 v1 k0_t34 v228 v257 k0_t39) a + S1x1x1x16x128.size a ≤ S2x2x108x128x128.size a), (Rect.unit (s := S2x2x108x128x128) (k0_off1022 v1 k0_t34 v228 v257 k0_t39) S1x1x1x16x128.size hinb).PackedRows (EltTy.packing .bf16)) ∧
  (∀ k0_t39 : Fin (k0_t39_loop v228 v257).trips, ∀ a, (k0_off1023 v1 k0_t34 v228 v257 k0_t39) a + S1x1x1x16x128.size a ≤ S2x2x108x128x128.size a) ∧
  (∀ k0_t39 : Fin (k0_t39_loop v228 v257).trips, ∀ (hinb : ∀ a, (k0_off1023 v1 k0_t34 v228 v257 k0_t39) a + S1x1x1x16x128.size a ≤ S2x2x108x128x128.size a), (Rect.unit (s := S2x2x108x128x128) (k0_off1023 v1 k0_t34 v228 v257 k0_t39) S1x1x1x16x128.size hinb).PackedRows (EltTy.packing .bf16)) ∧
  (∀ k0_t39 : Fin (k0_t39_loop v228 v257).trips, ∀ a, (k0_off1024 v1 k0_t34 v228 v257 k0_t39) a + S1x1x1x16x128.size a ≤ S2x2x108x128x128.size a) ∧
  (∀ k0_t39 : Fin (k0_t39_loop v228 v257).trips, ∀ (hinb : ∀ a, (k0_off1024 v1 k0_t34 v228 v257 k0_t39) a + S1x1x1x16x128.size a ≤ S2x2x108x128x128.size a), (Rect.unit (s := S2x2x108x128x128) (k0_off1024 v1 k0_t34 v228 v257 k0_t39) S1x1x1x16x128.size hinb).PackedRows (EltTy.packing .bf16)) ∧
  (∀ k0_t39 : Fin (k0_t39_loop v228 v257).trips, ∀ a, (k0_off1025 v1 k0_t34 v228 v257 k0_t39) a + S1x1x1x16x128.size a ≤ S2x2x108x128x128.size a) ∧
  (∀ k0_t39 : Fin (k0_t39_loop v228 v257).trips, ∀ (hinb : ∀ a, (k0_off1025 v1 k0_t34 v228 v257 k0_t39) a + S1x1x1x16x128.size a ≤ S2x2x108x128x128.size a), (Rect.unit (s := S2x2x108x128x128) (k0_off1025 v1 k0_t34 v228 v257 k0_t39) S1x1x1x16x128.size hinb).PackedRows (EltTy.packing .bf16)) ∧
  (∀ k0_t39 : Fin (k0_t39_loop v228 v257).trips, ∀ a, (k0_off1026 v1 k0_t34 v228 v257 k0_t39) a + S1x1x1x16x128.size a ≤ S2x2x108x128x128.size a) ∧
  (∀ k0_t39 : Fin (k0_t39_loop v228 v257).trips, ∀ (hinb : ∀ a, (k0_off1026 v1 k0_t34 v228 v257 k0_t39) a + S1x1x1x16x128.size a ≤ S2x2x108x128x128.size a), (Rect.unit (s := S2x2x108x128x128) (k0_off1026 v1 k0_t34 v228 v257 k0_t39) S1x1x1x16x128.size hinb).PackedRows (EltTy.packing .bf16)) ∧
  (∀ k0_t39 : Fin (k0_t39_loop v228 v257).trips, ∀ a, (k0_off1027 v1 k0_t34 v228 v257 k0_t39) a + S1x1x1x16x128.size a ≤ S2x2x108x128x128.size a) ∧
  (∀ k0_t39 : Fin (k0_t39_loop v228 v257).trips, ∀ (hinb : ∀ a, (k0_off1027 v1 k0_t34 v228 v257 k0_t39) a + S1x1x1x16x128.size a ≤ S2x2x108x128x128.size a), (Rect.unit (s := S2x2x108x128x128) (k0_off1027 v1 k0_t34 v228 v257 k0_t39) S1x1x1x16x128.size hinb).PackedRows (EltTy.packing .bf16)) ∧
  (∀ k0_t39 : Fin (k0_t39_loop v228 v257).trips, ∀ a, (k0_off1028 v1 k0_t34 v228 v257 k0_t39) a + S1x1x1x16x128.size a ≤ S2x2x108x128x128.size a) ∧
  (∀ k0_t39 : Fin (k0_t39_loop v228 v257).trips, ∀ (hinb : ∀ a, (k0_off1028 v1 k0_t34 v228 v257 k0_t39) a + S1x1x1x16x128.size a ≤ S2x2x108x128x128.size a), (Rect.unit (s := S2x2x108x128x128) (k0_off1028 v1 k0_t34 v228 v257 k0_t39) S1x1x1x16x128.size hinb).PackedRows (EltTy.packing .bf16)) ∧
  (∀ k0_t39 : Fin (k0_t39_loop v228 v257).trips, ∀ a, (k0_off1029 v1 k0_t34 v228 v257 k0_t39) a + S1x1x1x16x128.size a ≤ S2x2x108x128x128.size a) ∧
  (∀ k0_t39 : Fin (k0_t39_loop v228 v257).trips, ∀ (hinb : ∀ a, (k0_off1029 v1 k0_t34 v228 v257 k0_t39) a + S1x1x1x16x128.size a ≤ S2x2x108x128x128.size a), (Rect.unit (s := S2x2x108x128x128) (k0_off1029 v1 k0_t34 v228 v257 k0_t39) S1x1x1x16x128.size hinb).PackedRows (EltTy.packing .bf16)) ∧
  (∀ k0_t39 : Fin (k0_t39_loop v228 v257).trips, ∀ a, (k0_off1030 v1 k0_t34 v228 v257 k0_t39) a + S1x1x1x16x128.size a ≤ S2x2x108x128x128.size a) ∧
  (∀ k0_t39 : Fin (k0_t39_loop v228 v257).trips, ∀ (hinb : ∀ a, (k0_off1030 v1 k0_t34 v228 v257 k0_t39) a + S1x1x1x16x128.size a ≤ S2x2x108x128x128.size a), (Rect.unit (s := S2x2x108x128x128) (k0_off1030 v1 k0_t34 v228 v257 k0_t39) S1x1x1x16x128.size hinb).PackedRows (EltTy.packing .bf16)) ∧
  (∀ k0_t39 : Fin (k0_t39_loop v228 v257).trips, ∀ a, (k0_off1031 v1 k0_t34 v228 v257 k0_t39) a + S1x1x1x16x128.size a ≤ S2x2x108x128x128.size a) ∧
  (∀ k0_t39 : Fin (k0_t39_loop v228 v257).trips, ∀ (hinb : ∀ a, (k0_off1031 v1 k0_t34 v228 v257 k0_t39) a + S1x1x1x16x128.size a ≤ S2x2x108x128x128.size a), (Rect.unit (s := S2x2x108x128x128) (k0_off1031 v1 k0_t34 v228 v257 k0_t39) S1x1x1x16x128.size hinb).PackedRows (EltTy.packing .bf16)) ∧
  (∀ k0_t39 : Fin (k0_t39_loop v228 v257).trips, ∀ a, (k0_off1032 v1 k0_t34 v228 v257 k0_t39) a + S1x1x1x16x128.size a ≤ S2x2x108x128x128.size a) ∧
  (∀ k0_t39 : Fin (k0_t39_loop v228 v257).trips, ∀ (hinb : ∀ a, (k0_off1032 v1 k0_t34 v228 v257 k0_t39) a + S1x1x1x16x128.size a ≤ S2x2x108x128x128.size a), (Rect.unit (s := S2x2x108x128x128) (k0_off1032 v1 k0_t34 v228 v257 k0_t39) S1x1x1x16x128.size hinb).PackedRows (EltTy.packing .bf16)) ∧
  (∀ k0_t39 : Fin (k0_t39_loop v228 v257).trips, ∀ a, (k0_off1033 v1 k0_t34 v228 v257 k0_t39) a + S1x1x1x16x128.size a ≤ S2x2x108x128x128.size a) ∧
  (∀ k0_t39 : Fin (k0_t39_loop v228 v257).trips, ∀ (hinb : ∀ a, (k0_off1033 v1 k0_t34 v228 v257 k0_t39) a + S1x1x1x16x128.size a ≤ S2x2x108x128x128.size a), (Rect.unit (s := S2x2x108x128x128) (k0_off1033 v1 k0_t34 v228 v257 k0_t39) S1x1x1x16x128.size hinb).PackedRows (EltTy.packing .bf16)) ∧
  (∀ k0_t39 : Fin (k0_t39_loop v228 v257).trips, ∀ a, (k0_off1034 v1 k0_t34 v228 v257 k0_t39) a + S1x1x1x16x128.size a ≤ S2x2x108x128x128.size a) ∧
  (∀ k0_t39 : Fin (k0_t39_loop v228 v257).trips, ∀ (hinb : ∀ a, (k0_off1034 v1 k0_t34 v228 v257 k0_t39) a + S1x1x1x16x128.size a ≤ S2x2x108x128x128.size a), (Rect.unit (s := S2x2x108x128x128) (k0_off1034 v1 k0_t34 v228 v257 k0_t39) S1x1x1x16x128.size hinb).PackedRows (EltTy.packing .bf16)) ∧
  (∀ k0_t39 : Fin (k0_t39_loop v228 v257).trips, ∀ a, (k0_off1035 v1 k0_t34 v228 v257 k0_t39) a + S1x1x1x16x128.size a ≤ S2x2x108x128x128.size a) ∧
  (∀ k0_t39 : Fin (k0_t39_loop v228 v257).trips, ∀ (hinb : ∀ a, (k0_off1035 v1 k0_t34 v228 v257 k0_t39) a + S1x1x1x16x128.size a ≤ S2x2x108x128x128.size a), (Rect.unit (s := S2x2x108x128x128) (k0_off1035 v1 k0_t34 v228 v257 k0_t39) S1x1x1x16x128.size hinb).PackedRows (EltTy.packing .bf16)) ∧
  (∀ k0_t39 : Fin (k0_t39_loop v228 v257).trips, ∀ a, (k0_off1036 v1 k0_t34 v228 v257 k0_t39) a + S1x1x1x16x128.size a ≤ S2x2x108x128x128.size a) ∧
  (∀ k0_t39 : Fin (k0_t39_loop v228 v257).trips, ∀ (hinb : ∀ a, (k0_off1036 v1 k0_t34 v228 v257 k0_t39) a + S1x1x1x16x128.size a ≤ S2x2x108x128x128.size a), (Rect.unit (s := S2x2x108x128x128) (k0_off1036 v1 k0_t34 v228 v257 k0_t39) S1x1x1x16x128.size hinb).PackedRows (EltTy.packing .bf16))
def k0_chk21_23 (v1 : BitVec 32) (k0_t34 : Fin (k0_t34_loop v1).trips) (v228 : BitVec 32) (v257 : BitVec 32) : Prop :=
  (∀ k0_t39 : Fin (k0_t39_loop v228 v257).trips, ∀ a, (k0_off1037 v1 k0_t34 v228 v257 k0_t39) a + S1x1x1x16x128.size a ≤ S2x2x108x128x128.size a) ∧
  (∀ k0_t39 : Fin (k0_t39_loop v228 v257).trips, ∀ (hinb : ∀ a, (k0_off1037 v1 k0_t34 v228 v257 k0_t39) a + S1x1x1x16x128.size a ≤ S2x2x108x128x128.size a), (Rect.unit (s := S2x2x108x128x128) (k0_off1037 v1 k0_t34 v228 v257 k0_t39) S1x1x1x16x128.size hinb).PackedRows (EltTy.packing .bf16)) ∧
  (∀ k0_t39 : Fin (k0_t39_loop v228 v257).trips, ∀ a, (k0_off1038 v1 k0_t34 v228 v257 k0_t39) a + S1x1x1x16x128.size a ≤ S2x2x108x128x128.size a) ∧
  (∀ k0_t39 : Fin (k0_t39_loop v228 v257).trips, ∀ (hinb : ∀ a, (k0_off1038 v1 k0_t34 v228 v257 k0_t39) a + S1x1x1x16x128.size a ≤ S2x2x108x128x128.size a), (Rect.unit (s := S2x2x108x128x128) (k0_off1038 v1 k0_t34 v228 v257 k0_t39) S1x1x1x16x128.size hinb).PackedRows (EltTy.packing .bf16)) ∧
  (∀ k0_t39 : Fin (k0_t39_loop v228 v257).trips, ∀ a, (k0_off1039 v1 k0_t34 v228 v257 k0_t39) a + S1x1x1x16x128.size a ≤ S2x2x108x128x128.size a) ∧
  (∀ k0_t39 : Fin (k0_t39_loop v228 v257).trips, ∀ (hinb : ∀ a, (k0_off1039 v1 k0_t34 v228 v257 k0_t39) a + S1x1x1x16x128.size a ≤ S2x2x108x128x128.size a), (Rect.unit (s := S2x2x108x128x128) (k0_off1039 v1 k0_t34 v228 v257 k0_t39) S1x1x1x16x128.size hinb).PackedRows (EltTy.packing .bf16)) ∧
  (∀ k0_t39 : Fin (k0_t39_loop v228 v257).trips, ∀ a, (k0_off1040 v1 k0_t34 v228 v257 k0_t39) a + S1x1x1x16x128.size a ≤ S2x2x108x128x128.size a) ∧
  (∀ k0_t39 : Fin (k0_t39_loop v228 v257).trips, ∀ (hinb : ∀ a, (k0_off1040 v1 k0_t34 v228 v257 k0_t39) a + S1x1x1x16x128.size a ≤ S2x2x108x128x128.size a), (Rect.unit (s := S2x2x108x128x128) (k0_off1040 v1 k0_t34 v228 v257 k0_t39) S1x1x1x16x128.size hinb).PackedRows (EltTy.packing .bf16)) ∧
  (∀ k0_t39 : Fin (k0_t39_loop v228 v257).trips, ∀ a, (k0_off1041 v1 k0_t34 v228 v257 k0_t39) a + S1x1x1x16x128.size a ≤ S2x2x108x128x128.size a) ∧
  (∀ k0_t39 : Fin (k0_t39_loop v228 v257).trips, ∀ (hinb : ∀ a, (k0_off1041 v1 k0_t34 v228 v257 k0_t39) a + S1x1x1x16x128.size a ≤ S2x2x108x128x128.size a), (Rect.unit (s := S2x2x108x128x128) (k0_off1041 v1 k0_t34 v228 v257 k0_t39) S1x1x1x16x128.size hinb).PackedRows (EltTy.packing .bf16)) ∧
  (∀ k0_t39 : Fin (k0_t39_loop v228 v257).trips, ∀ a, (k0_off1042 v1 k0_t34 v228 v257 k0_t39) a + S1x1x1x16x128.size a ≤ S2x2x108x128x128.size a) ∧
  (∀ k0_t39 : Fin (k0_t39_loop v228 v257).trips, ∀ (hinb : ∀ a, (k0_off1042 v1 k0_t34 v228 v257 k0_t39) a + S1x1x1x16x128.size a ≤ S2x2x108x128x128.size a), (Rect.unit (s := S2x2x108x128x128) (k0_off1042 v1 k0_t34 v228 v257 k0_t39) S1x1x1x16x128.size hinb).PackedRows (EltTy.packing .bf16)) ∧
  (∀ k0_t39 : Fin (k0_t39_loop v228 v257).trips, ∀ a, (k0_off1043 v1 k0_t34 v228 v257 k0_t39) a + S1x1x1x16x128.size a ≤ S2x2x108x128x128.size a) ∧
  (∀ k0_t39 : Fin (k0_t39_loop v228 v257).trips, ∀ (hinb : ∀ a, (k0_off1043 v1 k0_t34 v228 v257 k0_t39) a + S1x1x1x16x128.size a ≤ S2x2x108x128x128.size a), (Rect.unit (s := S2x2x108x128x128) (k0_off1043 v1 k0_t34 v228 v257 k0_t39) S1x1x1x16x128.size hinb).PackedRows (EltTy.packing .bf16)) ∧
  (∀ k0_t39 : Fin (k0_t39_loop v228 v257).trips, ∀ a, (k0_off1044 v1 k0_t34 v228 v257 k0_t39) a + S1x1x1x16x128.size a ≤ S2x2x108x128x128.size a) ∧
  (∀ k0_t39 : Fin (k0_t39_loop v228 v257).trips, ∀ (hinb : ∀ a, (k0_off1044 v1 k0_t34 v228 v257 k0_t39) a + S1x1x1x16x128.size a ≤ S2x2x108x128x128.size a), (Rect.unit (s := S2x2x108x128x128) (k0_off1044 v1 k0_t34 v228 v257 k0_t39) S1x1x1x16x128.size hinb).PackedRows (EltTy.packing .bf16)) ∧
  (∀ k0_t39 : Fin (k0_t39_loop v228 v257).trips, ∀ a, (k0_off1045 v1 k0_t34 v228 v257 k0_t39) a + S1x1x1x16x128.size a ≤ S2x2x108x128x128.size a) ∧
  (∀ k0_t39 : Fin (k0_t39_loop v228 v257).trips, ∀ (hinb : ∀ a, (k0_off1045 v1 k0_t34 v228 v257 k0_t39) a + S1x1x1x16x128.size a ≤ S2x2x108x128x128.size a), (Rect.unit (s := S2x2x108x128x128) (k0_off1045 v1 k0_t34 v228 v257 k0_t39) S1x1x1x16x128.size hinb).PackedRows (EltTy.packing .bf16)) ∧
  (∀ k0_t39 : Fin (k0_t39_loop v228 v257).trips, ∀ a, (k0_off1046 v1 k0_t34 v228 v257 k0_t39) a + S1x1x1x16x128.size a ≤ S2x2x108x128x128.size a) ∧
  (∀ k0_t39 : Fin (k0_t39_loop v228 v257).trips, ∀ (hinb : ∀ a, (k0_off1046 v1 k0_t34 v228 v257 k0_t39) a + S1x1x1x16x128.size a ≤ S2x2x108x128x128.size a), (Rect.unit (s := S2x2x108x128x128) (k0_off1046 v1 k0_t34 v228 v257 k0_t39) S1x1x1x16x128.size hinb).PackedRows (EltTy.packing .bf16)) ∧
  (∀ k0_t39 : Fin (k0_t39_loop v228 v257).trips, ∀ a, (k0_off1047 v1 k0_t34 v228 v257 k0_t39) a + S1x1x1x16x128.size a ≤ S2x2x108x128x128.size a) ∧
  (∀ k0_t39 : Fin (k0_t39_loop v228 v257).trips, ∀ (hinb : ∀ a, (k0_off1047 v1 k0_t34 v228 v257 k0_t39) a + S1x1x1x16x128.size a ≤ S2x2x108x128x128.size a), (Rect.unit (s := S2x2x108x128x128) (k0_off1047 v1 k0_t34 v228 v257 k0_t39) S1x1x1x16x128.size hinb).PackedRows (EltTy.packing .bf16)) ∧
  (∀ k0_t39 : Fin (k0_t39_loop v228 v257).trips, ∀ a, (k0_off1048 v1 k0_t34 v228 v257 k0_t39) a + S1x1x1x16x128.size a ≤ S2x2x108x128x128.size a) ∧
  (∀ k0_t39 : Fin (k0_t39_loop v228 v257).trips, ∀ (hinb : ∀ a, (k0_off1048 v1 k0_t34 v228 v257 k0_t39) a + S1x1x1x16x128.size a ≤ S2x2x108x128x128.size a), (Rect.unit (s := S2x2x108x128x128) (k0_off1048 v1 k0_t34 v228 v257 k0_t39) S1x1x1x16x128.size hinb).PackedRows (EltTy.packing .bf16)) ∧
  (∀ k0_t39 : Fin (k0_t39_loop v228 v257).trips, ∀ a, (k0_off1049 v1 k0_t34 v228 v257 k0_t39) a + S1x1x1x16x128.size a ≤ S2x2x108x128x128.size a) ∧
  (∀ k0_t39 : Fin (k0_t39_loop v228 v257).trips, ∀ (hinb : ∀ a, (k0_off1049 v1 k0_t34 v228 v257 k0_t39) a + S1x1x1x16x128.size a ≤ S2x2x108x128x128.size a), (Rect.unit (s := S2x2x108x128x128) (k0_off1049 v1 k0_t34 v228 v257 k0_t39) S1x1x1x16x128.size hinb).PackedRows (EltTy.packing .bf16)) ∧
  (∀ k0_t39 : Fin (k0_t39_loop v228 v257).trips, ∀ a, (k0_off1050 v1 k0_t34 v228 v257 k0_t39) a + S1x1x1x16x128.size a ≤ S2x2x108x128x128.size a) ∧
  (∀ k0_t39 : Fin (k0_t39_loop v228 v257).trips, ∀ (hinb : ∀ a, (k0_off1050 v1 k0_t34 v228 v257 k0_t39) a + S1x1x1x16x128.size a ≤ S2x2x108x128x128.size a), (Rect.unit (s := S2x2x108x128x128) (k0_off1050 v1 k0_t34 v228 v257 k0_t39) S1x1x1x16x128.size hinb).PackedRows (EltTy.packing .bf16)) ∧
  (∀ k0_t39 : Fin (k0_t39_loop v228 v257).trips, ∀ a, (k0_off1051 v1 k0_t34 v228 v257 k0_t39) a + S1x1x1x16x128.size a ≤ S2x2x108x128x128.size a) ∧
  (∀ k0_t39 : Fin (k0_t39_loop v228 v257).trips, ∀ (hinb : ∀ a, (k0_off1051 v1 k0_t34 v228 v257 k0_t39) a + S1x1x1x16x128.size a ≤ S2x2x108x128x128.size a), (Rect.unit (s := S2x2x108x128x128) (k0_off1051 v1 k0_t34 v228 v257 k0_t39) S1x1x1x16x128.size hinb).PackedRows (EltTy.packing .bf16)) ∧
  (∀ k0_t39 : Fin (k0_t39_loop v228 v257).trips, ∀ a, (k0_off1052 v1 k0_t34 v228 v257 k0_t39) a + S1x1x1x16x128.size a ≤ S2x2x108x128x128.size a) ∧
  (∀ k0_t39 : Fin (k0_t39_loop v228 v257).trips, ∀ (hinb : ∀ a, (k0_off1052 v1 k0_t34 v228 v257 k0_t39) a + S1x1x1x16x128.size a ≤ S2x2x108x128x128.size a), (Rect.unit (s := S2x2x108x128x128) (k0_off1052 v1 k0_t34 v228 v257 k0_t39) S1x1x1x16x128.size hinb).PackedRows (EltTy.packing .bf16))
def k0_chk21_24 (v1 : BitVec 32) (k0_t34 : Fin (k0_t34_loop v1).trips) (v228 : BitVec 32) (v257 : BitVec 32) : Prop :=
  (∀ k0_t39 : Fin (k0_t39_loop v228 v257).trips, ∀ a, (k0_off1053 v1 k0_t34 v228 v257 k0_t39) a + S1x1x1x16x128.size a ≤ S2x2x108x128x128.size a) ∧
  (∀ k0_t39 : Fin (k0_t39_loop v228 v257).trips, ∀ (hinb : ∀ a, (k0_off1053 v1 k0_t34 v228 v257 k0_t39) a + S1x1x1x16x128.size a ≤ S2x2x108x128x128.size a), (Rect.unit (s := S2x2x108x128x128) (k0_off1053 v1 k0_t34 v228 v257 k0_t39) S1x1x1x16x128.size hinb).PackedRows (EltTy.packing .bf16)) ∧
  (∀ k0_t39 : Fin (k0_t39_loop v228 v257).trips, ∀ a, (k0_off1054 v1 k0_t34 v228 v257 k0_t39) a + S1x1x1x16x128.size a ≤ S2x2x108x128x128.size a) ∧
  (∀ k0_t39 : Fin (k0_t39_loop v228 v257).trips, ∀ (hinb : ∀ a, (k0_off1054 v1 k0_t34 v228 v257 k0_t39) a + S1x1x1x16x128.size a ≤ S2x2x108x128x128.size a), (Rect.unit (s := S2x2x108x128x128) (k0_off1054 v1 k0_t34 v228 v257 k0_t39) S1x1x1x16x128.size hinb).PackedRows (EltTy.packing .bf16)) ∧
  (∀ k0_t39 : Fin (k0_t39_loop v228 v257).trips, ∀ a, (k0_off1055 v1 k0_t34 v228 v257 k0_t39) a + S1x1x1x16x128.size a ≤ S2x2x108x128x128.size a) ∧
  (∀ k0_t39 : Fin (k0_t39_loop v228 v257).trips, ∀ (hinb : ∀ a, (k0_off1055 v1 k0_t34 v228 v257 k0_t39) a + S1x1x1x16x128.size a ≤ S2x2x108x128x128.size a), (Rect.unit (s := S2x2x108x128x128) (k0_off1055 v1 k0_t34 v228 v257 k0_t39) S1x1x1x16x128.size hinb).PackedRows (EltTy.packing .bf16)) ∧
  ((k0_t40_loop v228 v257).OK) ∧
  (∀ k0_t40 : Fin (k0_t40_loop v228 v257).trips, 16 ∣ (k0_mult9 v228 v257 k0_t40).toNat) ∧
  (∀ k0_t40 : Fin (k0_t40_loop v228 v257).trips, ∀ a, (k0_off1056 v1 k0_t34 v228 v257 k0_t40) a + S1x1x1x16x128.size a ≤ S2x2x108x128x128.size a) ∧
  (∀ k0_t40 : Fin (k0_t40_loop v228 v257).trips, ∀ (hinb : ∀ a, (k0_off1056 v1 k0_t34 v228 v257 k0_t40) a + S1x1x1x16x128.size a ≤ S2x2x108x128x128.size a), (Rect.unit (s := S2x2x108x128x128) (k0_off1056 v1 k0_t34 v228 v257 k0_t40) S1x1x1x16x128.size hinb).PackedRows (EltTy.packing .bf16)) ∧
  (∀ k0_t40 : Fin (k0_t40_loop v228 v257).trips, ∀ a, (k0_off1057 v1 k0_t34 v228 v257 k0_t40) a + S1x1x1x16x128.size a ≤ S2x2x108x128x128.size a) ∧
  (∀ k0_t40 : Fin (k0_t40_loop v228 v257).trips, ∀ (hinb : ∀ a, (k0_off1057 v1 k0_t34 v228 v257 k0_t40) a + S1x1x1x16x128.size a ≤ S2x2x108x128x128.size a), (Rect.unit (s := S2x2x108x128x128) (k0_off1057 v1 k0_t34 v228 v257 k0_t40) S1x1x1x16x128.size hinb).PackedRows (EltTy.packing .bf16)) ∧
  (∀ k0_t40 : Fin (k0_t40_loop v228 v257).trips, ∀ a, (k0_off1058 v1 k0_t34 v228 v257 k0_t40) a + S1x1x1x16x128.size a ≤ S2x2x108x128x128.size a) ∧
  (∀ k0_t40 : Fin (k0_t40_loop v228 v257).trips, ∀ (hinb : ∀ a, (k0_off1058 v1 k0_t34 v228 v257 k0_t40) a + S1x1x1x16x128.size a ≤ S2x2x108x128x128.size a), (Rect.unit (s := S2x2x108x128x128) (k0_off1058 v1 k0_t34 v228 v257 k0_t40) S1x1x1x16x128.size hinb).PackedRows (EltTy.packing .bf16)) ∧
  (∀ k0_t40 : Fin (k0_t40_loop v228 v257).trips, ∀ a, (k0_off1059 v1 k0_t34 v228 v257 k0_t40) a + S1x1x1x16x128.size a ≤ S2x2x108x128x128.size a) ∧
  (∀ k0_t40 : Fin (k0_t40_loop v228 v257).trips, ∀ (hinb : ∀ a, (k0_off1059 v1 k0_t34 v228 v257 k0_t40) a + S1x1x1x16x128.size a ≤ S2x2x108x128x128.size a), (Rect.unit (s := S2x2x108x128x128) (k0_off1059 v1 k0_t34 v228 v257 k0_t40) S1x1x1x16x128.size hinb).PackedRows (EltTy.packing .bf16)) ∧
  (∀ k0_t40 : Fin (k0_t40_loop v228 v257).trips, ∀ a, (k0_off1060 v1 k0_t34 v228 v257 k0_t40) a + S1x1x1x16x128.size a ≤ S2x2x108x128x128.size a) ∧
  (∀ k0_t40 : Fin (k0_t40_loop v228 v257).trips, ∀ (hinb : ∀ a, (k0_off1060 v1 k0_t34 v228 v257 k0_t40) a + S1x1x1x16x128.size a ≤ S2x2x108x128x128.size a), (Rect.unit (s := S2x2x108x128x128) (k0_off1060 v1 k0_t34 v228 v257 k0_t40) S1x1x1x16x128.size hinb).PackedRows (EltTy.packing .bf16)) ∧
  (∀ k0_t40 : Fin (k0_t40_loop v228 v257).trips, ∀ a, (k0_off1061 v1 k0_t34 v228 v257 k0_t40) a + S1x1x1x16x128.size a ≤ S2x2x108x128x128.size a) ∧
  (∀ k0_t40 : Fin (k0_t40_loop v228 v257).trips, ∀ (hinb : ∀ a, (k0_off1061 v1 k0_t34 v228 v257 k0_t40) a + S1x1x1x16x128.size a ≤ S2x2x108x128x128.size a), (Rect.unit (s := S2x2x108x128x128) (k0_off1061 v1 k0_t34 v228 v257 k0_t40) S1x1x1x16x128.size hinb).PackedRows (EltTy.packing .bf16)) ∧
  (∀ k0_t40 : Fin (k0_t40_loop v228 v257).trips, ∀ a, (k0_off1062 v1 k0_t34 v228 v257 k0_t40) a + S1x1x1x16x128.size a ≤ S2x2x108x128x128.size a) ∧
  (∀ k0_t40 : Fin (k0_t40_loop v228 v257).trips, ∀ (hinb : ∀ a, (k0_off1062 v1 k0_t34 v228 v257 k0_t40) a + S1x1x1x16x128.size a ≤ S2x2x108x128x128.size a), (Rect.unit (s := S2x2x108x128x128) (k0_off1062 v1 k0_t34 v228 v257 k0_t40) S1x1x1x16x128.size hinb).PackedRows (EltTy.packing .bf16)) ∧
  (∀ k0_t40 : Fin (k0_t40_loop v228 v257).trips, ∀ a, (k0_off1063 v1 k0_t34 v228 v257 k0_t40) a + S1x1x1x16x128.size a ≤ S2x2x108x128x128.size a) ∧
  (∀ k0_t40 : Fin (k0_t40_loop v228 v257).trips, ∀ (hinb : ∀ a, (k0_off1063 v1 k0_t34 v228 v257 k0_t40) a + S1x1x1x16x128.size a ≤ S2x2x108x128x128.size a), (Rect.unit (s := S2x2x108x128x128) (k0_off1063 v1 k0_t34 v228 v257 k0_t40) S1x1x1x16x128.size hinb).PackedRows (EltTy.packing .bf16)) ∧
  (∀ k0_t40 : Fin (k0_t40_loop v228 v257).trips, ∀ a, (k0_off1064 v1 k0_t34 v228 v257 k0_t40) a + S1x1x1x16x128.size a ≤ S2x2x108x128x128.size a) ∧
  (∀ k0_t40 : Fin (k0_t40_loop v228 v257).trips, ∀ (hinb : ∀ a, (k0_off1064 v1 k0_t34 v228 v257 k0_t40) a + S1x1x1x16x128.size a ≤ S2x2x108x128x128.size a), (Rect.unit (s := S2x2x108x128x128) (k0_off1064 v1 k0_t34 v228 v257 k0_t40) S1x1x1x16x128.size hinb).PackedRows (EltTy.packing .bf16)) ∧
  (∀ k0_t40 : Fin (k0_t40_loop v228 v257).trips, ∀ a, (k0_off1065 v1 k0_t34 v228 v257 k0_t40) a + S1x1x1x16x128.size a ≤ S2x2x108x128x128.size a) ∧
  (∀ k0_t40 : Fin (k0_t40_loop v228 v257).trips, ∀ (hinb : ∀ a, (k0_off1065 v1 k0_t34 v228 v257 k0_t40) a + S1x1x1x16x128.size a ≤ S2x2x108x128x128.size a), (Rect.unit (s := S2x2x108x128x128) (k0_off1065 v1 k0_t34 v228 v257 k0_t40) S1x1x1x16x128.size hinb).PackedRows (EltTy.packing .bf16)) ∧
  (∀ k0_t40 : Fin (k0_t40_loop v228 v257).trips, ∀ a, (k0_off1066 v1 k0_t34 v228 v257 k0_t40) a + S1x1x1x16x128.size a ≤ S2x2x108x128x128.size a) ∧
  (∀ k0_t40 : Fin (k0_t40_loop v228 v257).trips, ∀ (hinb : ∀ a, (k0_off1066 v1 k0_t34 v228 v257 k0_t40) a + S1x1x1x16x128.size a ≤ S2x2x108x128x128.size a), (Rect.unit (s := S2x2x108x128x128) (k0_off1066 v1 k0_t34 v228 v257 k0_t40) S1x1x1x16x128.size hinb).PackedRows (EltTy.packing .bf16)) ∧
  (∀ k0_t40 : Fin (k0_t40_loop v228 v257).trips, ∀ a, (k0_off1067 v1 k0_t34 v228 v257 k0_t40) a + S1x1x1x16x128.size a ≤ S2x2x108x128x128.size a) ∧
  (∀ k0_t40 : Fin (k0_t40_loop v228 v257).trips, ∀ (hinb : ∀ a, (k0_off1067 v1 k0_t34 v228 v257 k0_t40) a + S1x1x1x16x128.size a ≤ S2x2x108x128x128.size a), (Rect.unit (s := S2x2x108x128x128) (k0_off1067 v1 k0_t34 v228 v257 k0_t40) S1x1x1x16x128.size hinb).PackedRows (EltTy.packing .bf16))
def k0_chk21_25 (v1 : BitVec 32) (k0_t34 : Fin (k0_t34_loop v1).trips) (v228 : BitVec 32) (v257 : BitVec 32) : Prop :=
  (∀ k0_t40 : Fin (k0_t40_loop v228 v257).trips, ∀ a, (k0_off1068 v1 k0_t34 v228 v257 k0_t40) a + S1x1x1x16x128.size a ≤ S2x2x108x128x128.size a) ∧
  (∀ k0_t40 : Fin (k0_t40_loop v228 v257).trips, ∀ (hinb : ∀ a, (k0_off1068 v1 k0_t34 v228 v257 k0_t40) a + S1x1x1x16x128.size a ≤ S2x2x108x128x128.size a), (Rect.unit (s := S2x2x108x128x128) (k0_off1068 v1 k0_t34 v228 v257 k0_t40) S1x1x1x16x128.size hinb).PackedRows (EltTy.packing .bf16)) ∧
  (∀ k0_t40 : Fin (k0_t40_loop v228 v257).trips, ∀ a, (k0_off1069 v1 k0_t34 v228 v257 k0_t40) a + S1x1x1x16x128.size a ≤ S2x2x108x128x128.size a) ∧
  (∀ k0_t40 : Fin (k0_t40_loop v228 v257).trips, ∀ (hinb : ∀ a, (k0_off1069 v1 k0_t34 v228 v257 k0_t40) a + S1x1x1x16x128.size a ≤ S2x2x108x128x128.size a), (Rect.unit (s := S2x2x108x128x128) (k0_off1069 v1 k0_t34 v228 v257 k0_t40) S1x1x1x16x128.size hinb).PackedRows (EltTy.packing .bf16)) ∧
  (∀ k0_t40 : Fin (k0_t40_loop v228 v257).trips, ∀ a, (k0_off1070 v1 k0_t34 v228 v257 k0_t40) a + S1x1x1x16x128.size a ≤ S2x2x108x128x128.size a) ∧
  (∀ k0_t40 : Fin (k0_t40_loop v228 v257).trips, ∀ (hinb : ∀ a, (k0_off1070 v1 k0_t34 v228 v257 k0_t40) a + S1x1x1x16x128.size a ≤ S2x2x108x128x128.size a), (Rect.unit (s := S2x2x108x128x128) (k0_off1070 v1 k0_t34 v228 v257 k0_t40) S1x1x1x16x128.size hinb).PackedRows (EltTy.packing .bf16)) ∧
  (∀ k0_t40 : Fin (k0_t40_loop v228 v257).trips, ∀ a, (k0_off1071 v1 k0_t34 v228 v257 k0_t40) a + S1x1x1x16x128.size a ≤ S2x2x108x128x128.size a) ∧
  (∀ k0_t40 : Fin (k0_t40_loop v228 v257).trips, ∀ (hinb : ∀ a, (k0_off1071 v1 k0_t34 v228 v257 k0_t40) a + S1x1x1x16x128.size a ≤ S2x2x108x128x128.size a), (Rect.unit (s := S2x2x108x128x128) (k0_off1071 v1 k0_t34 v228 v257 k0_t40) S1x1x1x16x128.size hinb).PackedRows (EltTy.packing .bf16)) ∧
  (∀ k0_t40 : Fin (k0_t40_loop v228 v257).trips, ∀ a, (k0_off1072 v1 k0_t34 v228 v257 k0_t40) a + S1x1x1x16x128.size a ≤ S2x2x108x128x128.size a) ∧
  (∀ k0_t40 : Fin (k0_t40_loop v228 v257).trips, ∀ (hinb : ∀ a, (k0_off1072 v1 k0_t34 v228 v257 k0_t40) a + S1x1x1x16x128.size a ≤ S2x2x108x128x128.size a), (Rect.unit (s := S2x2x108x128x128) (k0_off1072 v1 k0_t34 v228 v257 k0_t40) S1x1x1x16x128.size hinb).PackedRows (EltTy.packing .bf16)) ∧
  (∀ k0_t40 : Fin (k0_t40_loop v228 v257).trips, ∀ a, (k0_off1073 v1 k0_t34 v228 v257 k0_t40) a + S1x1x1x16x128.size a ≤ S2x2x108x128x128.size a) ∧
  (∀ k0_t40 : Fin (k0_t40_loop v228 v257).trips, ∀ (hinb : ∀ a, (k0_off1073 v1 k0_t34 v228 v257 k0_t40) a + S1x1x1x16x128.size a ≤ S2x2x108x128x128.size a), (Rect.unit (s := S2x2x108x128x128) (k0_off1073 v1 k0_t34 v228 v257 k0_t40) S1x1x1x16x128.size hinb).PackedRows (EltTy.packing .bf16)) ∧
  (∀ k0_t40 : Fin (k0_t40_loop v228 v257).trips, ∀ a, (k0_off1074 v1 k0_t34 v228 v257 k0_t40) a + S1x1x1x16x128.size a ≤ S2x2x108x128x128.size a) ∧
  (∀ k0_t40 : Fin (k0_t40_loop v228 v257).trips, ∀ (hinb : ∀ a, (k0_off1074 v1 k0_t34 v228 v257 k0_t40) a + S1x1x1x16x128.size a ≤ S2x2x108x128x128.size a), (Rect.unit (s := S2x2x108x128x128) (k0_off1074 v1 k0_t34 v228 v257 k0_t40) S1x1x1x16x128.size hinb).PackedRows (EltTy.packing .bf16)) ∧
  (∀ k0_t40 : Fin (k0_t40_loop v228 v257).trips, ∀ a, (k0_off1075 v1 k0_t34 v228 v257 k0_t40) a + S1x1x1x16x128.size a ≤ S2x2x108x128x128.size a) ∧
  (∀ k0_t40 : Fin (k0_t40_loop v228 v257).trips, ∀ (hinb : ∀ a, (k0_off1075 v1 k0_t34 v228 v257 k0_t40) a + S1x1x1x16x128.size a ≤ S2x2x108x128x128.size a), (Rect.unit (s := S2x2x108x128x128) (k0_off1075 v1 k0_t34 v228 v257 k0_t40) S1x1x1x16x128.size hinb).PackedRows (EltTy.packing .bf16)) ∧
  (∀ k0_t40 : Fin (k0_t40_loop v228 v257).trips, ∀ a, (k0_off1076 v1 k0_t34 v228 v257 k0_t40) a + S1x1x1x16x128.size a ≤ S2x2x108x128x128.size a) ∧
  (∀ k0_t40 : Fin (k0_t40_loop v228 v257).trips, ∀ (hinb : ∀ a, (k0_off1076 v1 k0_t34 v228 v257 k0_t40) a + S1x1x1x16x128.size a ≤ S2x2x108x128x128.size a), (Rect.unit (s := S2x2x108x128x128) (k0_off1076 v1 k0_t34 v228 v257 k0_t40) S1x1x1x16x128.size hinb).PackedRows (EltTy.packing .bf16)) ∧
  (∀ k0_t40 : Fin (k0_t40_loop v228 v257).trips, ∀ a, (k0_off1077 v1 k0_t34 v228 v257 k0_t40) a + S1x1x1x16x128.size a ≤ S2x2x108x128x128.size a) ∧
  (∀ k0_t40 : Fin (k0_t40_loop v228 v257).trips, ∀ (hinb : ∀ a, (k0_off1077 v1 k0_t34 v228 v257 k0_t40) a + S1x1x1x16x128.size a ≤ S2x2x108x128x128.size a), (Rect.unit (s := S2x2x108x128x128) (k0_off1077 v1 k0_t34 v228 v257 k0_t40) S1x1x1x16x128.size hinb).PackedRows (EltTy.packing .bf16)) ∧
  (∀ k0_t40 : Fin (k0_t40_loop v228 v257).trips, ∀ a, (k0_off1078 v1 k0_t34 v228 v257 k0_t40) a + S1x1x1x16x128.size a ≤ S2x2x108x128x128.size a) ∧
  (∀ k0_t40 : Fin (k0_t40_loop v228 v257).trips, ∀ (hinb : ∀ a, (k0_off1078 v1 k0_t34 v228 v257 k0_t40) a + S1x1x1x16x128.size a ≤ S2x2x108x128x128.size a), (Rect.unit (s := S2x2x108x128x128) (k0_off1078 v1 k0_t34 v228 v257 k0_t40) S1x1x1x16x128.size hinb).PackedRows (EltTy.packing .bf16)) ∧
  (∀ k0_t40 : Fin (k0_t40_loop v228 v257).trips, ∀ a, (k0_off1079 v1 k0_t34 v228 v257 k0_t40) a + S1x1x1x16x128.size a ≤ S2x2x108x128x128.size a) ∧
  (∀ k0_t40 : Fin (k0_t40_loop v228 v257).trips, ∀ (hinb : ∀ a, (k0_off1079 v1 k0_t34 v228 v257 k0_t40) a + S1x1x1x16x128.size a ≤ S2x2x108x128x128.size a), (Rect.unit (s := S2x2x108x128x128) (k0_off1079 v1 k0_t34 v228 v257 k0_t40) S1x1x1x16x128.size hinb).PackedRows (EltTy.packing .bf16)) ∧
  (∀ k0_t40 : Fin (k0_t40_loop v228 v257).trips, ∀ a, (k0_off1080 v1 k0_t34 v228 v257 k0_t40) a + S1x1x1x16x128.size a ≤ S2x2x108x128x128.size a) ∧
  (∀ k0_t40 : Fin (k0_t40_loop v228 v257).trips, ∀ (hinb : ∀ a, (k0_off1080 v1 k0_t34 v228 v257 k0_t40) a + S1x1x1x16x128.size a ≤ S2x2x108x128x128.size a), (Rect.unit (s := S2x2x108x128x128) (k0_off1080 v1 k0_t34 v228 v257 k0_t40) S1x1x1x16x128.size hinb).PackedRows (EltTy.packing .bf16)) ∧
  (∀ k0_t40 : Fin (k0_t40_loop v228 v257).trips, ∀ a, (k0_off1081 v1 k0_t34 v228 v257 k0_t40) a + S1x1x1x16x128.size a ≤ S2x2x108x128x128.size a) ∧
  (∀ k0_t40 : Fin (k0_t40_loop v228 v257).trips, ∀ (hinb : ∀ a, (k0_off1081 v1 k0_t34 v228 v257 k0_t40) a + S1x1x1x16x128.size a ≤ S2x2x108x128x128.size a), (Rect.unit (s := S2x2x108x128x128) (k0_off1081 v1 k0_t34 v228 v257 k0_t40) S1x1x1x16x128.size hinb).PackedRows (EltTy.packing .bf16)) ∧
  (∀ k0_t40 : Fin (k0_t40_loop v228 v257).trips, ∀ a, (k0_off1082 v1 k0_t34 v228 v257 k0_t40) a + S1x1x1x16x128.size a ≤ S2x2x108x128x128.size a) ∧
  (∀ k0_t40 : Fin (k0_t40_loop v228 v257).trips, ∀ (hinb : ∀ a, (k0_off1082 v1 k0_t34 v228 v257 k0_t40) a + S1x1x1x16x128.size a ≤ S2x2x108x128x128.size a), (Rect.unit (s := S2x2x108x128x128) (k0_off1082 v1 k0_t34 v228 v257 k0_t40) S1x1x1x16x128.size hinb).PackedRows (EltTy.packing .bf16)) ∧
  (∀ k0_t40 : Fin (k0_t40_loop v228 v257).trips, ∀ a, (k0_off1083 v1 k0_t34 v228 v257 k0_t40) a + S1x1x1x16x128.size a ≤ S2x2x108x128x128.size a) ∧
  (∀ k0_t40 : Fin (k0_t40_loop v228 v257).trips, ∀ (hinb : ∀ a, (k0_off1083 v1 k0_t34 v228 v257 k0_t40) a + S1x1x1x16x128.size a ≤ S2x2x108x128x128.size a), (Rect.unit (s := S2x2x108x128x128) (k0_off1083 v1 k0_t34 v228 v257 k0_t40) S1x1x1x16x128.size hinb).PackedRows (EltTy.packing .bf16))
def k0_chk21_26 (v1 : BitVec 32) (k0_t34 : Fin (k0_t34_loop v1).trips) (v228 : BitVec 32) (v257 : BitVec 32) : Prop :=
  (∀ k0_t40 : Fin (k0_t40_loop v228 v257).trips, ∀ a, (k0_off1084 v1 k0_t34 v228 v257 k0_t40) a + S1x1x1x16x128.size a ≤ S2x2x108x128x128.size a) ∧
  (∀ k0_t40 : Fin (k0_t40_loop v228 v257).trips, ∀ (hinb : ∀ a, (k0_off1084 v1 k0_t34 v228 v257 k0_t40) a + S1x1x1x16x128.size a ≤ S2x2x108x128x128.size a), (Rect.unit (s := S2x2x108x128x128) (k0_off1084 v1 k0_t34 v228 v257 k0_t40) S1x1x1x16x128.size hinb).PackedRows (EltTy.packing .bf16)) ∧
  (∀ k0_t40 : Fin (k0_t40_loop v228 v257).trips, ∀ a, (k0_off1085 v1 k0_t34 v228 v257 k0_t40) a + S1x1x1x16x128.size a ≤ S2x2x108x128x128.size a) ∧
  (∀ k0_t40 : Fin (k0_t40_loop v228 v257).trips, ∀ (hinb : ∀ a, (k0_off1085 v1 k0_t34 v228 v257 k0_t40) a + S1x1x1x16x128.size a ≤ S2x2x108x128x128.size a), (Rect.unit (s := S2x2x108x128x128) (k0_off1085 v1 k0_t34 v228 v257 k0_t40) S1x1x1x16x128.size hinb).PackedRows (EltTy.packing .bf16)) ∧
  (∀ k0_t40 : Fin (k0_t40_loop v228 v257).trips, ∀ a, (k0_off1086 v1 k0_t34 v228 v257 k0_t40) a + S1x1x1x16x128.size a ≤ S2x2x108x128x128.size a) ∧
  (∀ k0_t40 : Fin (k0_t40_loop v228 v257).trips, ∀ (hinb : ∀ a, (k0_off1086 v1 k0_t34 v228 v257 k0_t40) a + S1x1x1x16x128.size a ≤ S2x2x108x128x128.size a), (Rect.unit (s := S2x2x108x128x128) (k0_off1086 v1 k0_t34 v228 v257 k0_t40) S1x1x1x16x128.size hinb).PackedRows (EltTy.packing .bf16)) ∧
  (∀ k0_t40 : Fin (k0_t40_loop v228 v257).trips, ∀ a, (k0_off1087 v1 k0_t34 v228 v257 k0_t40) a + S1x1x1x16x128.size a ≤ S2x2x108x128x128.size a) ∧
  (∀ k0_t40 : Fin (k0_t40_loop v228 v257).trips, ∀ (hinb : ∀ a, (k0_off1087 v1 k0_t34 v228 v257 k0_t40) a + S1x1x1x16x128.size a ≤ S2x2x108x128x128.size a), (Rect.unit (s := S2x2x108x128x128) (k0_off1087 v1 k0_t34 v228 v257 k0_t40) S1x1x1x16x128.size hinb).PackedRows (EltTy.packing .bf16)) ∧
  (∀ k0_t40 : Fin (k0_t40_loop v228 v257).trips, ∀ a, (k0_off1088 v1 k0_t34 v228 v257 k0_t40) a + S1x1x1x16x128.size a ≤ S2x2x108x128x128.size a) ∧
  (∀ k0_t40 : Fin (k0_t40_loop v228 v257).trips, ∀ (hinb : ∀ a, (k0_off1088 v1 k0_t34 v228 v257 k0_t40) a + S1x1x1x16x128.size a ≤ S2x2x108x128x128.size a), (Rect.unit (s := S2x2x108x128x128) (k0_off1088 v1 k0_t34 v228 v257 k0_t40) S1x1x1x16x128.size hinb).PackedRows (EltTy.packing .bf16)) ∧
  (∀ k0_t40 : Fin (k0_t40_loop v228 v257).trips, ∀ a, (k0_off1089 v1 k0_t34 v228 v257 k0_t40) a + S1x1x1x16x128.size a ≤ S2x2x108x128x128.size a) ∧
  (∀ k0_t40 : Fin (k0_t40_loop v228 v257).trips, ∀ (hinb : ∀ a, (k0_off1089 v1 k0_t34 v228 v257 k0_t40) a + S1x1x1x16x128.size a ≤ S2x2x108x128x128.size a), (Rect.unit (s := S2x2x108x128x128) (k0_off1089 v1 k0_t34 v228 v257 k0_t40) S1x1x1x16x128.size hinb).PackedRows (EltTy.packing .bf16)) ∧
  (∀ k0_t40 : Fin (k0_t40_loop v228 v257).trips, ∀ a, (k0_off1090 v1 k0_t34 v228 v257 k0_t40) a + S1x1x1x16x128.size a ≤ S2x2x108x128x128.size a) ∧
  (∀ k0_t40 : Fin (k0_t40_loop v228 v257).trips, ∀ (hinb : ∀ a, (k0_off1090 v1 k0_t34 v228 v257 k0_t40) a + S1x1x1x16x128.size a ≤ S2x2x108x128x128.size a), (Rect.unit (s := S2x2x108x128x128) (k0_off1090 v1 k0_t34 v228 v257 k0_t40) S1x1x1x16x128.size hinb).PackedRows (EltTy.packing .bf16)) ∧
  (∀ k0_t40 : Fin (k0_t40_loop v228 v257).trips, ∀ a, (k0_off1091 v1 k0_t34 v228 v257 k0_t40) a + S1x1x1x16x128.size a ≤ S2x2x108x128x128.size a) ∧
  (∀ k0_t40 : Fin (k0_t40_loop v228 v257).trips, ∀ (hinb : ∀ a, (k0_off1091 v1 k0_t34 v228 v257 k0_t40) a + S1x1x1x16x128.size a ≤ S2x2x108x128x128.size a), (Rect.unit (s := S2x2x108x128x128) (k0_off1091 v1 k0_t34 v228 v257 k0_t40) S1x1x1x16x128.size hinb).PackedRows (EltTy.packing .bf16)) ∧
  (∀ k0_t40 : Fin (k0_t40_loop v228 v257).trips, ∀ a, (k0_off1092 v1 k0_t34 v228 v257 k0_t40) a + S1x1x1x16x128.size a ≤ S2x2x108x128x128.size a) ∧
  (∀ k0_t40 : Fin (k0_t40_loop v228 v257).trips, ∀ (hinb : ∀ a, (k0_off1092 v1 k0_t34 v228 v257 k0_t40) a + S1x1x1x16x128.size a ≤ S2x2x108x128x128.size a), (Rect.unit (s := S2x2x108x128x128) (k0_off1092 v1 k0_t34 v228 v257 k0_t40) S1x1x1x16x128.size hinb).PackedRows (EltTy.packing .bf16)) ∧
  (∀ k0_t40 : Fin (k0_t40_loop v228 v257).trips, ∀ a, (k0_off1093 v1 k0_t34 v228 v257 k0_t40) a + S1x1x1x16x128.size a ≤ S2x2x108x128x128.size a) ∧
  (∀ k0_t40 : Fin (k0_t40_loop v228 v257).trips, ∀ (hinb : ∀ a, (k0_off1093 v1 k0_t34 v228 v257 k0_t40) a + S1x1x1x16x128.size a ≤ S2x2x108x128x128.size a), (Rect.unit (s := S2x2x108x128x128) (k0_off1093 v1 k0_t34 v228 v257 k0_t40) S1x1x1x16x128.size hinb).PackedRows (EltTy.packing .bf16)) ∧
  (∀ k0_t40 : Fin (k0_t40_loop v228 v257).trips, ∀ a, (k0_off1094 v1 k0_t34 v228 v257 k0_t40) a + S1x1x1x16x128.size a ≤ S2x2x108x128x128.size a) ∧
  (∀ k0_t40 : Fin (k0_t40_loop v228 v257).trips, ∀ (hinb : ∀ a, (k0_off1094 v1 k0_t34 v228 v257 k0_t40) a + S1x1x1x16x128.size a ≤ S2x2x108x128x128.size a), (Rect.unit (s := S2x2x108x128x128) (k0_off1094 v1 k0_t34 v228 v257 k0_t40) S1x1x1x16x128.size hinb).PackedRows (EltTy.packing .bf16)) ∧
  (∀ k0_t40 : Fin (k0_t40_loop v228 v257).trips, ∀ a, (k0_off1095 v1 k0_t34 v228 v257 k0_t40) a + S1x1x1x16x128.size a ≤ S2x2x108x128x128.size a) ∧
  (∀ k0_t40 : Fin (k0_t40_loop v228 v257).trips, ∀ (hinb : ∀ a, (k0_off1095 v1 k0_t34 v228 v257 k0_t40) a + S1x1x1x16x128.size a ≤ S2x2x108x128x128.size a), (Rect.unit (s := S2x2x108x128x128) (k0_off1095 v1 k0_t34 v228 v257 k0_t40) S1x1x1x16x128.size hinb).PackedRows (EltTy.packing .bf16)) ∧
  (∀ k0_t40 : Fin (k0_t40_loop v228 v257).trips, ∀ a, (k0_off1096 v1 k0_t34 v228 v257 k0_t40) a + S1x1x1x16x128.size a ≤ S2x2x108x128x128.size a) ∧
  (∀ k0_t40 : Fin (k0_t40_loop v228 v257).trips, ∀ (hinb : ∀ a, (k0_off1096 v1 k0_t34 v228 v257 k0_t40) a + S1x1x1x16x128.size a ≤ S2x2x108x128x128.size a), (Rect.unit (s := S2x2x108x128x128) (k0_off1096 v1 k0_t34 v228 v257 k0_t40) S1x1x1x16x128.size hinb).PackedRows (EltTy.packing .bf16)) ∧
  (∀ k0_t40 : Fin (k0_t40_loop v228 v257).trips, ∀ a, (k0_off1097 v1 k0_t34 v228 v257 k0_t40) a + S1x1x1x16x128.size a ≤ S2x2x108x128x128.size a) ∧
  (∀ k0_t40 : Fin (k0_t40_loop v228 v257).trips, ∀ (hinb : ∀ a, (k0_off1097 v1 k0_t34 v228 v257 k0_t40) a + S1x1x1x16x128.size a ≤ S2x2x108x128x128.size a), (Rect.unit (s := S2x2x108x128x128) (k0_off1097 v1 k0_t34 v228 v257 k0_t40) S1x1x1x16x128.size hinb).PackedRows (EltTy.packing .bf16)) ∧
  (∀ k0_t40 : Fin (k0_t40_loop v228 v257).trips, ∀ a, (k0_off1098 v1 k0_t34 v228 v257 k0_t40) a + S1x1x1x16x128.size a ≤ S2x2x108x128x128.size a) ∧
  (∀ k0_t40 : Fin (k0_t40_loop v228 v257).trips, ∀ (hinb : ∀ a, (k0_off1098 v1 k0_t34 v228 v257 k0_t40) a + S1x1x1x16x128.size a ≤ S2x2x108x128x128.size a), (Rect.unit (s := S2x2x108x128x128) (k0_off1098 v1 k0_t34 v228 v257 k0_t40) S1x1x1x16x128.size hinb).PackedRows (EltTy.packing .bf16)) ∧
  (∀ k0_t40 : Fin (k0_t40_loop v228 v257).trips, ∀ a, (k0_off1099 v1 k0_t34 v228 v257 k0_t40) a + S1x1x1x16x128.size a ≤ S2x2x108x128x128.size a) ∧
  (∀ k0_t40 : Fin (k0_t40_loop v228 v257).trips, ∀ (hinb : ∀ a, (k0_off1099 v1 k0_t34 v228 v257 k0_t40) a + S1x1x1x16x128.size a ≤ S2x2x108x128x128.size a), (Rect.unit (s := S2x2x108x128x128) (k0_off1099 v1 k0_t34 v228 v257 k0_t40) S1x1x1x16x128.size hinb).PackedRows (EltTy.packing .bf16))
def k0_chk21_27 (v1 : BitVec 32) (k0_t34 : Fin (k0_t34_loop v1).trips) (v228 : BitVec 32) (v257 : BitVec 32) : Prop :=
  (∀ k0_t40 : Fin (k0_t40_loop v228 v257).trips, ∀ a, (k0_off1100 v1 k0_t34 v228 v257 k0_t40) a + S1x1x1x16x128.size a ≤ S2x2x108x128x128.size a) ∧
  (∀ k0_t40 : Fin (k0_t40_loop v228 v257).trips, ∀ (hinb : ∀ a, (k0_off1100 v1 k0_t34 v228 v257 k0_t40) a + S1x1x1x16x128.size a ≤ S2x2x108x128x128.size a), (Rect.unit (s := S2x2x108x128x128) (k0_off1100 v1 k0_t34 v228 v257 k0_t40) S1x1x1x16x128.size hinb).PackedRows (EltTy.packing .bf16)) ∧
  (∀ k0_t40 : Fin (k0_t40_loop v228 v257).trips, ∀ a, (k0_off1101 v1 k0_t34 v228 v257 k0_t40) a + S1x1x1x16x128.size a ≤ S2x2x108x128x128.size a) ∧
  (∀ k0_t40 : Fin (k0_t40_loop v228 v257).trips, ∀ (hinb : ∀ a, (k0_off1101 v1 k0_t34 v228 v257 k0_t40) a + S1x1x1x16x128.size a ≤ S2x2x108x128x128.size a), (Rect.unit (s := S2x2x108x128x128) (k0_off1101 v1 k0_t34 v228 v257 k0_t40) S1x1x1x16x128.size hinb).PackedRows (EltTy.packing .bf16)) ∧
  (∀ k0_t40 : Fin (k0_t40_loop v228 v257).trips, ∀ a, (k0_off1102 v1 k0_t34 v228 v257 k0_t40) a + S1x1x1x16x128.size a ≤ S2x2x108x128x128.size a) ∧
  (∀ k0_t40 : Fin (k0_t40_loop v228 v257).trips, ∀ (hinb : ∀ a, (k0_off1102 v1 k0_t34 v228 v257 k0_t40) a + S1x1x1x16x128.size a ≤ S2x2x108x128x128.size a), (Rect.unit (s := S2x2x108x128x128) (k0_off1102 v1 k0_t34 v228 v257 k0_t40) S1x1x1x16x128.size hinb).PackedRows (EltTy.packing .bf16)) ∧
  (∀ k0_t40 : Fin (k0_t40_loop v228 v257).trips, ∀ a, (k0_off1103 v1 k0_t34 v228 v257 k0_t40) a + S1x1x1x16x128.size a ≤ S2x2x108x128x128.size a) ∧
  (∀ k0_t40 : Fin (k0_t40_loop v228 v257).trips, ∀ (hinb : ∀ a, (k0_off1103 v1 k0_t34 v228 v257 k0_t40) a + S1x1x1x16x128.size a ≤ S2x2x108x128x128.size a), (Rect.unit (s := S2x2x108x128x128) (k0_off1103 v1 k0_t34 v228 v257 k0_t40) S1x1x1x16x128.size hinb).PackedRows (EltTy.packing .bf16)) ∧
  (∀ k0_t40 : Fin (k0_t40_loop v228 v257).trips, ∀ a, (k0_off1104 v1 k0_t34 v228 v257 k0_t40) a + S1x1x1x16x128.size a ≤ S2x2x108x128x128.size a) ∧
  (∀ k0_t40 : Fin (k0_t40_loop v228 v257).trips, ∀ (hinb : ∀ a, (k0_off1104 v1 k0_t34 v228 v257 k0_t40) a + S1x1x1x16x128.size a ≤ S2x2x108x128x128.size a), (Rect.unit (s := S2x2x108x128x128) (k0_off1104 v1 k0_t34 v228 v257 k0_t40) S1x1x1x16x128.size hinb).PackedRows (EltTy.packing .bf16)) ∧
  (∀ k0_t40 : Fin (k0_t40_loop v228 v257).trips, ∀ a, (k0_off1105 v1 k0_t34 v228 v257 k0_t40) a + S1x1x1x16x128.size a ≤ S2x2x108x128x128.size a) ∧
  (∀ k0_t40 : Fin (k0_t40_loop v228 v257).trips, ∀ (hinb : ∀ a, (k0_off1105 v1 k0_t34 v228 v257 k0_t40) a + S1x1x1x16x128.size a ≤ S2x2x108x128x128.size a), (Rect.unit (s := S2x2x108x128x128) (k0_off1105 v1 k0_t34 v228 v257 k0_t40) S1x1x1x16x128.size hinb).PackedRows (EltTy.packing .bf16)) ∧
  (∀ k0_t40 : Fin (k0_t40_loop v228 v257).trips, ∀ a, (k0_off1106 v1 k0_t34 v228 v257 k0_t40) a + S1x1x1x16x128.size a ≤ S2x2x108x128x128.size a) ∧
  (∀ k0_t40 : Fin (k0_t40_loop v228 v257).trips, ∀ (hinb : ∀ a, (k0_off1106 v1 k0_t34 v228 v257 k0_t40) a + S1x1x1x16x128.size a ≤ S2x2x108x128x128.size a), (Rect.unit (s := S2x2x108x128x128) (k0_off1106 v1 k0_t34 v228 v257 k0_t40) S1x1x1x16x128.size hinb).PackedRows (EltTy.packing .bf16)) ∧
  (∀ k0_t40 : Fin (k0_t40_loop v228 v257).trips, ∀ a, (k0_off1107 v1 k0_t34 v228 v257 k0_t40) a + S1x1x1x16x128.size a ≤ S2x2x108x128x128.size a) ∧
  (∀ k0_t40 : Fin (k0_t40_loop v228 v257).trips, ∀ (hinb : ∀ a, (k0_off1107 v1 k0_t34 v228 v257 k0_t40) a + S1x1x1x16x128.size a ≤ S2x2x108x128x128.size a), (Rect.unit (s := S2x2x108x128x128) (k0_off1107 v1 k0_t34 v228 v257 k0_t40) S1x1x1x16x128.size hinb).PackedRows (EltTy.packing .bf16)) ∧
  (∀ k0_t40 : Fin (k0_t40_loop v228 v257).trips, ∀ a, (k0_off1108 v1 k0_t34 v228 v257 k0_t40) a + S1x1x1x16x128.size a ≤ S2x2x108x128x128.size a) ∧
  (∀ k0_t40 : Fin (k0_t40_loop v228 v257).trips, ∀ (hinb : ∀ a, (k0_off1108 v1 k0_t34 v228 v257 k0_t40) a + S1x1x1x16x128.size a ≤ S2x2x108x128x128.size a), (Rect.unit (s := S2x2x108x128x128) (k0_off1108 v1 k0_t34 v228 v257 k0_t40) S1x1x1x16x128.size hinb).PackedRows (EltTy.packing .bf16)) ∧
  (∀ k0_t40 : Fin (k0_t40_loop v228 v257).trips, ∀ a, (k0_off1109 v1 k0_t34 v228 v257 k0_t40) a + S1x1x1x16x128.size a ≤ S2x2x108x128x128.size a) ∧
  (∀ k0_t40 : Fin (k0_t40_loop v228 v257).trips, ∀ (hinb : ∀ a, (k0_off1109 v1 k0_t34 v228 v257 k0_t40) a + S1x1x1x16x128.size a ≤ S2x2x108x128x128.size a), (Rect.unit (s := S2x2x108x128x128) (k0_off1109 v1 k0_t34 v228 v257 k0_t40) S1x1x1x16x128.size hinb).PackedRows (EltTy.packing .bf16)) ∧
  (∀ k0_t40 : Fin (k0_t40_loop v228 v257).trips, ∀ a, (k0_off1110 v1 k0_t34 v228 v257 k0_t40) a + S1x1x1x16x128.size a ≤ S2x2x108x128x128.size a) ∧
  (∀ k0_t40 : Fin (k0_t40_loop v228 v257).trips, ∀ (hinb : ∀ a, (k0_off1110 v1 k0_t34 v228 v257 k0_t40) a + S1x1x1x16x128.size a ≤ S2x2x108x128x128.size a), (Rect.unit (s := S2x2x108x128x128) (k0_off1110 v1 k0_t34 v228 v257 k0_t40) S1x1x1x16x128.size hinb).PackedRows (EltTy.packing .bf16)) ∧
  (∀ k0_t40 : Fin (k0_t40_loop v228 v257).trips, ∀ a, (k0_off1111 v1 k0_t34 v228 v257 k0_t40) a + S1x1x1x16x128.size a ≤ S2x2x108x128x128.size a) ∧
  (∀ k0_t40 : Fin (k0_t40_loop v228 v257).trips, ∀ (hinb : ∀ a, (k0_off1111 v1 k0_t34 v228 v257 k0_t40) a + S1x1x1x16x128.size a ≤ S2x2x108x128x128.size a), (Rect.unit (s := S2x2x108x128x128) (k0_off1111 v1 k0_t34 v228 v257 k0_t40) S1x1x1x16x128.size hinb).PackedRows (EltTy.packing .bf16)) ∧
  (∀ k0_t40 : Fin (k0_t40_loop v228 v257).trips, ∀ a, (k0_off1112 v1 k0_t34 v228 v257 k0_t40) a + S1x1x1x16x128.size a ≤ S2x2x108x128x128.size a) ∧
  (∀ k0_t40 : Fin (k0_t40_loop v228 v257).trips, ∀ (hinb : ∀ a, (k0_off1112 v1 k0_t34 v228 v257 k0_t40) a + S1x1x1x16x128.size a ≤ S2x2x108x128x128.size a), (Rect.unit (s := S2x2x108x128x128) (k0_off1112 v1 k0_t34 v228 v257 k0_t40) S1x1x1x16x128.size hinb).PackedRows (EltTy.packing .bf16)) ∧
  (∀ k0_t40 : Fin (k0_t40_loop v228 v257).trips, ∀ a, (k0_off1113 v1 k0_t34 v228 v257 k0_t40) a + S1x1x1x16x128.size a ≤ S2x2x108x128x128.size a) ∧
  (∀ k0_t40 : Fin (k0_t40_loop v228 v257).trips, ∀ (hinb : ∀ a, (k0_off1113 v1 k0_t34 v228 v257 k0_t40) a + S1x1x1x16x128.size a ≤ S2x2x108x128x128.size a), (Rect.unit (s := S2x2x108x128x128) (k0_off1113 v1 k0_t34 v228 v257 k0_t40) S1x1x1x16x128.size hinb).PackedRows (EltTy.packing .bf16)) ∧
  (∀ k0_t40 : Fin (k0_t40_loop v228 v257).trips, ∀ a, (k0_off1114 v1 k0_t34 v228 v257 k0_t40) a + S1x1x1x16x128.size a ≤ S2x2x108x128x128.size a) ∧
  (∀ k0_t40 : Fin (k0_t40_loop v228 v257).trips, ∀ (hinb : ∀ a, (k0_off1114 v1 k0_t34 v228 v257 k0_t40) a + S1x1x1x16x128.size a ≤ S2x2x108x128x128.size a), (Rect.unit (s := S2x2x108x128x128) (k0_off1114 v1 k0_t34 v228 v257 k0_t40) S1x1x1x16x128.size hinb).PackedRows (EltTy.packing .bf16)) ∧
  (∀ k0_t40 : Fin (k0_t40_loop v228 v257).trips, ∀ a, (k0_off1115 v1 k0_t34 v228 v257 k0_t40) a + S1x1x1x16x128.size a ≤ S2x2x108x128x128.size a) ∧
  (∀ k0_t40 : Fin (k0_t40_loop v228 v257).trips, ∀ (hinb : ∀ a, (k0_off1115 v1 k0_t34 v228 v257 k0_t40) a + S1x1x1x16x128.size a ≤ S2x2x108x128x128.size a), (Rect.unit (s := S2x2x108x128x128) (k0_off1115 v1 k0_t34 v228 v257 k0_t40) S1x1x1x16x128.size hinb).PackedRows (EltTy.packing .bf16))
def k0_chk21_28 (v1 : BitVec 32) (k0_t34 : Fin (k0_t34_loop v1).trips) (v228 : BitVec 32) (v257 : BitVec 32) : Prop :=
  (∀ k0_t40 : Fin (k0_t40_loop v228 v257).trips, ∀ a, (k0_off1116 v1 k0_t34 v228 v257 k0_t40) a + S1x1x1x16x128.size a ≤ S2x2x108x128x128.size a) ∧
  (∀ k0_t40 : Fin (k0_t40_loop v228 v257).trips, ∀ (hinb : ∀ a, (k0_off1116 v1 k0_t34 v228 v257 k0_t40) a + S1x1x1x16x128.size a ≤ S2x2x108x128x128.size a), (Rect.unit (s := S2x2x108x128x128) (k0_off1116 v1 k0_t34 v228 v257 k0_t40) S1x1x1x16x128.size hinb).PackedRows (EltTy.packing .bf16)) ∧
  (∀ k0_t40 : Fin (k0_t40_loop v228 v257).trips, ∀ a, (k0_off1117 v1 k0_t34 v228 v257 k0_t40) a + S1x1x1x16x128.size a ≤ S2x2x108x128x128.size a) ∧
  (∀ k0_t40 : Fin (k0_t40_loop v228 v257).trips, ∀ (hinb : ∀ a, (k0_off1117 v1 k0_t34 v228 v257 k0_t40) a + S1x1x1x16x128.size a ≤ S2x2x108x128x128.size a), (Rect.unit (s := S2x2x108x128x128) (k0_off1117 v1 k0_t34 v228 v257 k0_t40) S1x1x1x16x128.size hinb).PackedRows (EltTy.packing .bf16)) ∧
  (∀ k0_t40 : Fin (k0_t40_loop v228 v257).trips, ∀ a, (k0_off1118 v1 k0_t34 v228 v257 k0_t40) a + S1x1x1x16x128.size a ≤ S2x2x108x128x128.size a) ∧
  (∀ k0_t40 : Fin (k0_t40_loop v228 v257).trips, ∀ (hinb : ∀ a, (k0_off1118 v1 k0_t34 v228 v257 k0_t40) a + S1x1x1x16x128.size a ≤ S2x2x108x128x128.size a), (Rect.unit (s := S2x2x108x128x128) (k0_off1118 v1 k0_t34 v228 v257 k0_t40) S1x1x1x16x128.size hinb).PackedRows (EltTy.packing .bf16)) ∧
  (∀ k0_t40 : Fin (k0_t40_loop v228 v257).trips, ∀ a, (k0_off1119 v1 k0_t34 v228 v257 k0_t40) a + S1x1x1x16x128.size a ≤ S2x2x108x128x128.size a) ∧
  (∀ k0_t40 : Fin (k0_t40_loop v228 v257).trips, ∀ (hinb : ∀ a, (k0_off1119 v1 k0_t34 v228 v257 k0_t40) a + S1x1x1x16x128.size a ≤ S2x2x108x128x128.size a), (Rect.unit (s := S2x2x108x128x128) (k0_off1119 v1 k0_t34 v228 v257 k0_t40) S1x1x1x16x128.size hinb).PackedRows (EltTy.packing .bf16)) ∧
  (∀ k0_t40 : Fin (k0_t40_loop v228 v257).trips, ∀ a, (k0_off1120 v1 k0_t34 v228 v257 k0_t40) a + S1x1x1x16x128.size a ≤ S2x2x108x128x128.size a) ∧
  (∀ k0_t40 : Fin (k0_t40_loop v228 v257).trips, ∀ (hinb : ∀ a, (k0_off1120 v1 k0_t34 v228 v257 k0_t40) a + S1x1x1x16x128.size a ≤ S2x2x108x128x128.size a), (Rect.unit (s := S2x2x108x128x128) (k0_off1120 v1 k0_t34 v228 v257 k0_t40) S1x1x1x16x128.size hinb).PackedRows (EltTy.packing .bf16)) ∧
  (∀ k0_t40 : Fin (k0_t40_loop v228 v257).trips, ∀ a, (k0_off1121 v1 k0_t34 v228 v257 k0_t40) a + S1x1x1x16x128.size a ≤ S2x2x108x128x128.size a) ∧
  (∀ k0_t40 : Fin (k0_t40_loop v228 v257).trips, ∀ (hinb : ∀ a, (k0_off1121 v1 k0_t34 v228 v257 k0_t40) a + S1x1x1x16x128.size a ≤ S2x2x108x128x128.size a), (Rect.unit (s := S2x2x108x128x128) (k0_off1121 v1 k0_t34 v228 v257 k0_t40) S1x1x1x16x128.size hinb).PackedRows (EltTy.packing .bf16)) ∧
  (∀ k0_t40 : Fin (k0_t40_loop v228 v257).trips, ∀ a, (k0_off1122 v1 k0_t34 v228 v257 k0_t40) a + S1x1x1x16x128.size a ≤ S2x2x108x128x128.size a) ∧
  (∀ k0_t40 : Fin (k0_t40_loop v228 v257).trips, ∀ (hinb : ∀ a, (k0_off1122 v1 k0_t34 v228 v257 k0_t40) a + S1x1x1x16x128.size a ≤ S2x2x108x128x128.size a), (Rect.unit (s := S2x2x108x128x128) (k0_off1122 v1 k0_t34 v228 v257 k0_t40) S1x1x1x16x128.size hinb).PackedRows (EltTy.packing .bf16)) ∧
  (∀ k0_t40 : Fin (k0_t40_loop v228 v257).trips, ∀ a, (k0_off1123 v1 k0_t34 v228 v257 k0_t40) a + S1x1x1x16x128.size a ≤ S2x2x108x128x128.size a) ∧
  (∀ k0_t40 : Fin (k0_t40_loop v228 v257).trips, ∀ (hinb : ∀ a, (k0_off1123 v1 k0_t34 v228 v257 k0_t40) a + S1x1x1x16x128.size a ≤ S2x2x108x128x128.size a), (Rect.unit (s := S2x2x108x128x128) (k0_off1123 v1 k0_t34 v228 v257 k0_t40) S1x1x1x16x128.size hinb).PackedRows (EltTy.packing .bf16)) ∧
  (∀ k0_t40 : Fin (k0_t40_loop v228 v257).trips, ∀ a, (k0_off1124 v1 k0_t34 v228 v257 k0_t40) a + S1x1x1x16x128.size a ≤ S2x2x108x128x128.size a) ∧
  (∀ k0_t40 : Fin (k0_t40_loop v228 v257).trips, ∀ (hinb : ∀ a, (k0_off1124 v1 k0_t34 v228 v257 k0_t40) a + S1x1x1x16x128.size a ≤ S2x2x108x128x128.size a), (Rect.unit (s := S2x2x108x128x128) (k0_off1124 v1 k0_t34 v228 v257 k0_t40) S1x1x1x16x128.size hinb).PackedRows (EltTy.packing .bf16)) ∧
  (∀ k0_t40 : Fin (k0_t40_loop v228 v257).trips, ∀ a, (k0_off1125 v1 k0_t34 v228 v257 k0_t40) a + S1x1x1x16x128.size a ≤ S2x2x108x128x128.size a) ∧
  (∀ k0_t40 : Fin (k0_t40_loop v228 v257).trips, ∀ (hinb : ∀ a, (k0_off1125 v1 k0_t34 v228 v257 k0_t40) a + S1x1x1x16x128.size a ≤ S2x2x108x128x128.size a), (Rect.unit (s := S2x2x108x128x128) (k0_off1125 v1 k0_t34 v228 v257 k0_t40) S1x1x1x16x128.size hinb).PackedRows (EltTy.packing .bf16)) ∧
  (∀ k0_t40 : Fin (k0_t40_loop v228 v257).trips, ∀ a, (k0_off1126 v1 k0_t34 v228 v257 k0_t40) a + S1x1x1x16x128.size a ≤ S2x2x108x128x128.size a) ∧
  (∀ k0_t40 : Fin (k0_t40_loop v228 v257).trips, ∀ (hinb : ∀ a, (k0_off1126 v1 k0_t34 v228 v257 k0_t40) a + S1x1x1x16x128.size a ≤ S2x2x108x128x128.size a), (Rect.unit (s := S2x2x108x128x128) (k0_off1126 v1 k0_t34 v228 v257 k0_t40) S1x1x1x16x128.size hinb).PackedRows (EltTy.packing .bf16)) ∧
  (∀ k0_t40 : Fin (k0_t40_loop v228 v257).trips, ∀ a, (k0_off1127 v1 k0_t34 v228 v257 k0_t40) a + S1x1x1x16x128.size a ≤ S2x2x108x128x128.size a) ∧
  (∀ k0_t40 : Fin (k0_t40_loop v228 v257).trips, ∀ (hinb : ∀ a, (k0_off1127 v1 k0_t34 v228 v257 k0_t40) a + S1x1x1x16x128.size a ≤ S2x2x108x128x128.size a), (Rect.unit (s := S2x2x108x128x128) (k0_off1127 v1 k0_t34 v228 v257 k0_t40) S1x1x1x16x128.size hinb).PackedRows (EltTy.packing .bf16)) ∧
  (∀ k0_t40 : Fin (k0_t40_loop v228 v257).trips, ∀ a, (k0_off1128 v1 k0_t34 v228 v257 k0_t40) a + S1x1x1x16x128.size a ≤ S2x2x108x128x128.size a) ∧
  (∀ k0_t40 : Fin (k0_t40_loop v228 v257).trips, ∀ (hinb : ∀ a, (k0_off1128 v1 k0_t34 v228 v257 k0_t40) a + S1x1x1x16x128.size a ≤ S2x2x108x128x128.size a), (Rect.unit (s := S2x2x108x128x128) (k0_off1128 v1 k0_t34 v228 v257 k0_t40) S1x1x1x16x128.size hinb).PackedRows (EltTy.packing .bf16)) ∧
  (∀ k0_t40 : Fin (k0_t40_loop v228 v257).trips, ∀ a, (k0_off1129 v1 k0_t34 v228 v257 k0_t40) a + S1x1x1x16x128.size a ≤ S2x2x108x128x128.size a) ∧
  (∀ k0_t40 : Fin (k0_t40_loop v228 v257).trips, ∀ (hinb : ∀ a, (k0_off1129 v1 k0_t34 v228 v257 k0_t40) a + S1x1x1x16x128.size a ≤ S2x2x108x128x128.size a), (Rect.unit (s := S2x2x108x128x128) (k0_off1129 v1 k0_t34 v228 v257 k0_t40) S1x1x1x16x128.size hinb).PackedRows (EltTy.packing .bf16)) ∧
  (∀ k0_t40 : Fin (k0_t40_loop v228 v257).trips, ∀ a, (k0_off1130 v1 k0_t34 v228 v257 k0_t40) a + S1x1x1x16x128.size a ≤ S2x2x108x128x128.size a) ∧
  (∀ k0_t40 : Fin (k0_t40_loop v228 v257).trips, ∀ (hinb : ∀ a, (k0_off1130 v1 k0_t34 v228 v257 k0_t40) a + S1x1x1x16x128.size a ≤ S2x2x108x128x128.size a), (Rect.unit (s := S2x2x108x128x128) (k0_off1130 v1 k0_t34 v228 v257 k0_t40) S1x1x1x16x128.size hinb).PackedRows (EltTy.packing .bf16)) ∧
  (∀ k0_t40 : Fin (k0_t40_loop v228 v257).trips, ∀ a, (k0_off1131 v1 k0_t34 v228 v257 k0_t40) a + S1x1x1x16x128.size a ≤ S2x2x108x128x128.size a) ∧
  (∀ k0_t40 : Fin (k0_t40_loop v228 v257).trips, ∀ (hinb : ∀ a, (k0_off1131 v1 k0_t34 v228 v257 k0_t40) a + S1x1x1x16x128.size a ≤ S2x2x108x128x128.size a), (Rect.unit (s := S2x2x108x128x128) (k0_off1131 v1 k0_t34 v228 v257 k0_t40) S1x1x1x16x128.size hinb).PackedRows (EltTy.packing .bf16))
def k0_chk21_29 (v1 : BitVec 32) (k0_t34 : Fin (k0_t34_loop v1).trips) (v228 : BitVec 32) (v257 : BitVec 32) : Prop :=
  (∀ k0_t40 : Fin (k0_t40_loop v228 v257).trips, ∀ a, (k0_off1132 v1 k0_t34 v228 v257 k0_t40) a + S1x1x1x16x128.size a ≤ S2x2x108x128x128.size a) ∧
  (∀ k0_t40 : Fin (k0_t40_loop v228 v257).trips, ∀ (hinb : ∀ a, (k0_off1132 v1 k0_t34 v228 v257 k0_t40) a + S1x1x1x16x128.size a ≤ S2x2x108x128x128.size a), (Rect.unit (s := S2x2x108x128x128) (k0_off1132 v1 k0_t34 v228 v257 k0_t40) S1x1x1x16x128.size hinb).PackedRows (EltTy.packing .bf16)) ∧
  (∀ k0_t40 : Fin (k0_t40_loop v228 v257).trips, ∀ a, (k0_off1133 v1 k0_t34 v228 v257 k0_t40) a + S1x1x1x16x128.size a ≤ S2x2x108x128x128.size a) ∧
  (∀ k0_t40 : Fin (k0_t40_loop v228 v257).trips, ∀ (hinb : ∀ a, (k0_off1133 v1 k0_t34 v228 v257 k0_t40) a + S1x1x1x16x128.size a ≤ S2x2x108x128x128.size a), (Rect.unit (s := S2x2x108x128x128) (k0_off1133 v1 k0_t34 v228 v257 k0_t40) S1x1x1x16x128.size hinb).PackedRows (EltTy.packing .bf16)) ∧
  (∀ k0_t40 : Fin (k0_t40_loop v228 v257).trips, ∀ a, (k0_off1134 v1 k0_t34 v228 v257 k0_t40) a + S1x1x1x16x128.size a ≤ S2x2x108x128x128.size a) ∧
  (∀ k0_t40 : Fin (k0_t40_loop v228 v257).trips, ∀ (hinb : ∀ a, (k0_off1134 v1 k0_t34 v228 v257 k0_t40) a + S1x1x1x16x128.size a ≤ S2x2x108x128x128.size a), (Rect.unit (s := S2x2x108x128x128) (k0_off1134 v1 k0_t34 v228 v257 k0_t40) S1x1x1x16x128.size hinb).PackedRows (EltTy.packing .bf16)) ∧
  (∀ k0_t40 : Fin (k0_t40_loop v228 v257).trips, ∀ a, (k0_off1135 v1 k0_t34 v228 v257 k0_t40) a + S1x1x1x16x128.size a ≤ S2x2x108x128x128.size a) ∧
  (∀ k0_t40 : Fin (k0_t40_loop v228 v257).trips, ∀ (hinb : ∀ a, (k0_off1135 v1 k0_t34 v228 v257 k0_t40) a + S1x1x1x16x128.size a ≤ S2x2x108x128x128.size a), (Rect.unit (s := S2x2x108x128x128) (k0_off1135 v1 k0_t34 v228 v257 k0_t40) S1x1x1x16x128.size hinb).PackedRows (EltTy.packing .bf16)) ∧
  (∀ k0_t40 : Fin (k0_t40_loop v228 v257).trips, ∀ a, (k0_off1136 v1 k0_t34 v228 v257 k0_t40) a + S1x1x1x16x128.size a ≤ S2x2x108x128x128.size a) ∧
  (∀ k0_t40 : Fin (k0_t40_loop v228 v257).trips, ∀ (hinb : ∀ a, (k0_off1136 v1 k0_t34 v228 v257 k0_t40) a + S1x1x1x16x128.size a ≤ S2x2x108x128x128.size a), (Rect.unit (s := S2x2x108x128x128) (k0_off1136 v1 k0_t34 v228 v257 k0_t40) S1x1x1x16x128.size hinb).PackedRows (EltTy.packing .bf16)) ∧
  (∀ k0_t40 : Fin (k0_t40_loop v228 v257).trips, ∀ a, (k0_off1137 v1 k0_t34 v228 v257 k0_t40) a + S1x1x1x16x128.size a ≤ S2x2x108x128x128.size a) ∧
  (∀ k0_t40 : Fin (k0_t40_loop v228 v257).trips, ∀ (hinb : ∀ a, (k0_off1137 v1 k0_t34 v228 v257 k0_t40) a + S1x1x1x16x128.size a ≤ S2x2x108x128x128.size a), (Rect.unit (s := S2x2x108x128x128) (k0_off1137 v1 k0_t34 v228 v257 k0_t40) S1x1x1x16x128.size hinb).PackedRows (EltTy.packing .bf16)) ∧
  (∀ k0_t40 : Fin (k0_t40_loop v228 v257).trips, ∀ a, (k0_off1138 v1 k0_t34 v228 v257 k0_t40) a + S1x1x1x16x128.size a ≤ S2x2x108x128x128.size a) ∧
  (∀ k0_t40 : Fin (k0_t40_loop v228 v257).trips, ∀ (hinb : ∀ a, (k0_off1138 v1 k0_t34 v228 v257 k0_t40) a + S1x1x1x16x128.size a ≤ S2x2x108x128x128.size a), (Rect.unit (s := S2x2x108x128x128) (k0_off1138 v1 k0_t34 v228 v257 k0_t40) S1x1x1x16x128.size hinb).PackedRows (EltTy.packing .bf16)) ∧
  (∀ k0_t40 : Fin (k0_t40_loop v228 v257).trips, ∀ a, (k0_off1139 v1 k0_t34 v228 v257 k0_t40) a + S1x1x1x16x128.size a ≤ S2x2x108x128x128.size a) ∧
  (∀ k0_t40 : Fin (k0_t40_loop v228 v257).trips, ∀ (hinb : ∀ a, (k0_off1139 v1 k0_t34 v228 v257 k0_t40) a + S1x1x1x16x128.size a ≤ S2x2x108x128x128.size a), (Rect.unit (s := S2x2x108x128x128) (k0_off1139 v1 k0_t34 v228 v257 k0_t40) S1x1x1x16x128.size hinb).PackedRows (EltTy.packing .bf16)) ∧
  (∀ k0_t40 : Fin (k0_t40_loop v228 v257).trips, ∀ a, (k0_off1140 v1 k0_t34 v228 v257 k0_t40) a + S1x1x1x16x128.size a ≤ S2x2x108x128x128.size a) ∧
  (∀ k0_t40 : Fin (k0_t40_loop v228 v257).trips, ∀ (hinb : ∀ a, (k0_off1140 v1 k0_t34 v228 v257 k0_t40) a + S1x1x1x16x128.size a ≤ S2x2x108x128x128.size a), (Rect.unit (s := S2x2x108x128x128) (k0_off1140 v1 k0_t34 v228 v257 k0_t40) S1x1x1x16x128.size hinb).PackedRows (EltTy.packing .bf16)) ∧
  (∀ k0_t40 : Fin (k0_t40_loop v228 v257).trips, ∀ a, (k0_off1141 v1 k0_t34 v228 v257 k0_t40) a + S1x1x1x16x128.size a ≤ S2x2x108x128x128.size a) ∧
  (∀ k0_t40 : Fin (k0_t40_loop v228 v257).trips, ∀ (hinb : ∀ a, (k0_off1141 v1 k0_t34 v228 v257 k0_t40) a + S1x1x1x16x128.size a ≤ S2x2x108x128x128.size a), (Rect.unit (s := S2x2x108x128x128) (k0_off1141 v1 k0_t34 v228 v257 k0_t40) S1x1x1x16x128.size hinb).PackedRows (EltTy.packing .bf16)) ∧
  (∀ k0_t40 : Fin (k0_t40_loop v228 v257).trips, ∀ a, (k0_off1142 v1 k0_t34 v228 v257 k0_t40) a + S1x1x1x16x128.size a ≤ S2x2x108x128x128.size a) ∧
  (∀ k0_t40 : Fin (k0_t40_loop v228 v257).trips, ∀ (hinb : ∀ a, (k0_off1142 v1 k0_t34 v228 v257 k0_t40) a + S1x1x1x16x128.size a ≤ S2x2x108x128x128.size a), (Rect.unit (s := S2x2x108x128x128) (k0_off1142 v1 k0_t34 v228 v257 k0_t40) S1x1x1x16x128.size hinb).PackedRows (EltTy.packing .bf16)) ∧
  (∀ k0_t40 : Fin (k0_t40_loop v228 v257).trips, ∀ a, (k0_off1143 v1 k0_t34 v228 v257 k0_t40) a + S1x1x1x16x128.size a ≤ S2x2x108x128x128.size a) ∧
  (∀ k0_t40 : Fin (k0_t40_loop v228 v257).trips, ∀ (hinb : ∀ a, (k0_off1143 v1 k0_t34 v228 v257 k0_t40) a + S1x1x1x16x128.size a ≤ S2x2x108x128x128.size a), (Rect.unit (s := S2x2x108x128x128) (k0_off1143 v1 k0_t34 v228 v257 k0_t40) S1x1x1x16x128.size hinb).PackedRows (EltTy.packing .bf16)) ∧
  (∀ k0_t40 : Fin (k0_t40_loop v228 v257).trips, ∀ a, (k0_off1144 v1 k0_t34 v228 v257 k0_t40) a + S1x1x1x16x128.size a ≤ S2x2x108x128x128.size a) ∧
  (∀ k0_t40 : Fin (k0_t40_loop v228 v257).trips, ∀ (hinb : ∀ a, (k0_off1144 v1 k0_t34 v228 v257 k0_t40) a + S1x1x1x16x128.size a ≤ S2x2x108x128x128.size a), (Rect.unit (s := S2x2x108x128x128) (k0_off1144 v1 k0_t34 v228 v257 k0_t40) S1x1x1x16x128.size hinb).PackedRows (EltTy.packing .bf16)) ∧
  (∀ k0_t40 : Fin (k0_t40_loop v228 v257).trips, ∀ a, (k0_off1145 v1 k0_t34 v228 v257 k0_t40) a + S1x1x1x16x128.size a ≤ S2x2x108x128x128.size a) ∧
  (∀ k0_t40 : Fin (k0_t40_loop v228 v257).trips, ∀ (hinb : ∀ a, (k0_off1145 v1 k0_t34 v228 v257 k0_t40) a + S1x1x1x16x128.size a ≤ S2x2x108x128x128.size a), (Rect.unit (s := S2x2x108x128x128) (k0_off1145 v1 k0_t34 v228 v257 k0_t40) S1x1x1x16x128.size hinb).PackedRows (EltTy.packing .bf16)) ∧
  (∀ k0_t40 : Fin (k0_t40_loop v228 v257).trips, ∀ a, (k0_off1146 v1 k0_t34 v228 v257 k0_t40) a + S1x1x1x16x128.size a ≤ S2x2x108x128x128.size a) ∧
  (∀ k0_t40 : Fin (k0_t40_loop v228 v257).trips, ∀ (hinb : ∀ a, (k0_off1146 v1 k0_t34 v228 v257 k0_t40) a + S1x1x1x16x128.size a ≤ S2x2x108x128x128.size a), (Rect.unit (s := S2x2x108x128x128) (k0_off1146 v1 k0_t34 v228 v257 k0_t40) S1x1x1x16x128.size hinb).PackedRows (EltTy.packing .bf16)) ∧
  (∀ k0_t40 : Fin (k0_t40_loop v228 v257).trips, ∀ a, (k0_off1147 v1 k0_t34 v228 v257 k0_t40) a + S1x1x1x16x128.size a ≤ S2x2x108x128x128.size a) ∧
  (∀ k0_t40 : Fin (k0_t40_loop v228 v257).trips, ∀ (hinb : ∀ a, (k0_off1147 v1 k0_t34 v228 v257 k0_t40) a + S1x1x1x16x128.size a ≤ S2x2x108x128x128.size a), (Rect.unit (s := S2x2x108x128x128) (k0_off1147 v1 k0_t34 v228 v257 k0_t40) S1x1x1x16x128.size hinb).PackedRows (EltTy.packing .bf16))
def k0_chk21_30 (v1 : BitVec 32) (k0_t34 : Fin (k0_t34_loop v1).trips) (v228 : BitVec 32) (v257 : BitVec 32) : Prop :=
  (∀ k0_t40 : Fin (k0_t40_loop v228 v257).trips, ∀ a, (k0_off1148 v1 k0_t34 v228 v257 k0_t40) a + S1x1x1x16x128.size a ≤ S2x2x108x128x128.size a) ∧
  (∀ k0_t40 : Fin (k0_t40_loop v228 v257).trips, ∀ (hinb : ∀ a, (k0_off1148 v1 k0_t34 v228 v257 k0_t40) a + S1x1x1x16x128.size a ≤ S2x2x108x128x128.size a), (Rect.unit (s := S2x2x108x128x128) (k0_off1148 v1 k0_t34 v228 v257 k0_t40) S1x1x1x16x128.size hinb).PackedRows (EltTy.packing .bf16)) ∧
  (∀ k0_t40 : Fin (k0_t40_loop v228 v257).trips, ∀ a, (k0_off1149 v1 k0_t34 v228 v257 k0_t40) a + S1x1x1x16x128.size a ≤ S2x2x108x128x128.size a) ∧
  (∀ k0_t40 : Fin (k0_t40_loop v228 v257).trips, ∀ (hinb : ∀ a, (k0_off1149 v1 k0_t34 v228 v257 k0_t40) a + S1x1x1x16x128.size a ≤ S2x2x108x128x128.size a), (Rect.unit (s := S2x2x108x128x128) (k0_off1149 v1 k0_t34 v228 v257 k0_t40) S1x1x1x16x128.size hinb).PackedRows (EltTy.packing .bf16)) ∧
  (∀ k0_t40 : Fin (k0_t40_loop v228 v257).trips, ∀ a, (k0_off1150 v1 k0_t34 v228 v257 k0_t40) a + S1x1x1x16x128.size a ≤ S2x2x108x128x128.size a) ∧
  (∀ k0_t40 : Fin (k0_t40_loop v228 v257).trips, ∀ (hinb : ∀ a, (k0_off1150 v1 k0_t34 v228 v257 k0_t40) a + S1x1x1x16x128.size a ≤ S2x2x108x128x128.size a), (Rect.unit (s := S2x2x108x128x128) (k0_off1150 v1 k0_t34 v228 v257 k0_t40) S1x1x1x16x128.size hinb).PackedRows (EltTy.packing .bf16)) ∧
  (∀ k0_t40 : Fin (k0_t40_loop v228 v257).trips, ∀ a, (k0_off1151 v1 k0_t34 v228 v257 k0_t40) a + S1x1x1x16x128.size a ≤ S2x2x108x128x128.size a) ∧
  (∀ k0_t40 : Fin (k0_t40_loop v228 v257).trips, ∀ (hinb : ∀ a, (k0_off1151 v1 k0_t34 v228 v257 k0_t40) a + S1x1x1x16x128.size a ≤ S2x2x108x128x128.size a), (Rect.unit (s := S2x2x108x128x128) (k0_off1151 v1 k0_t34 v228 v257 k0_t40) S1x1x1x16x128.size hinb).PackedRows (EltTy.packing .bf16)) ∧
  (∀ k0_t40 : Fin (k0_t40_loop v228 v257).trips, ∀ a, (k0_off1152 v1 k0_t34 v228 v257 k0_t40) a + S1x1x1x16x128.size a ≤ S2x2x108x128x128.size a) ∧
  (∀ k0_t40 : Fin (k0_t40_loop v228 v257).trips, ∀ (hinb : ∀ a, (k0_off1152 v1 k0_t34 v228 v257 k0_t40) a + S1x1x1x16x128.size a ≤ S2x2x108x128x128.size a), (Rect.unit (s := S2x2x108x128x128) (k0_off1152 v1 k0_t34 v228 v257 k0_t40) S1x1x1x16x128.size hinb).PackedRows (EltTy.packing .bf16)) ∧
  (∀ k0_t40 : Fin (k0_t40_loop v228 v257).trips, ∀ a, (k0_off1153 v1 k0_t34 v228 v257 k0_t40) a + S1x1x1x16x128.size a ≤ S2x2x108x128x128.size a) ∧
  (∀ k0_t40 : Fin (k0_t40_loop v228 v257).trips, ∀ (hinb : ∀ a, (k0_off1153 v1 k0_t34 v228 v257 k0_t40) a + S1x1x1x16x128.size a ≤ S2x2x108x128x128.size a), (Rect.unit (s := S2x2x108x128x128) (k0_off1153 v1 k0_t34 v228 v257 k0_t40) S1x1x1x16x128.size hinb).PackedRows (EltTy.packing .bf16)) ∧
  (∀ k0_t40 : Fin (k0_t40_loop v228 v257).trips, ∀ a, (k0_off1154 v1 k0_t34 v228 v257 k0_t40) a + S1x1x1x16x128.size a ≤ S2x2x108x128x128.size a) ∧
  (∀ k0_t40 : Fin (k0_t40_loop v228 v257).trips, ∀ (hinb : ∀ a, (k0_off1154 v1 k0_t34 v228 v257 k0_t40) a + S1x1x1x16x128.size a ≤ S2x2x108x128x128.size a), (Rect.unit (s := S2x2x108x128x128) (k0_off1154 v1 k0_t34 v228 v257 k0_t40) S1x1x1x16x128.size hinb).PackedRows (EltTy.packing .bf16)) ∧
  (∀ k0_t40 : Fin (k0_t40_loop v228 v257).trips, ∀ a, (k0_off1155 v1 k0_t34 v228 v257 k0_t40) a + S1x1x1x16x128.size a ≤ S2x2x108x128x128.size a) ∧
  (∀ k0_t40 : Fin (k0_t40_loop v228 v257).trips, ∀ (hinb : ∀ a, (k0_off1155 v1 k0_t34 v228 v257 k0_t40) a + S1x1x1x16x128.size a ≤ S2x2x108x128x128.size a), (Rect.unit (s := S2x2x108x128x128) (k0_off1155 v1 k0_t34 v228 v257 k0_t40) S1x1x1x16x128.size hinb).PackedRows (EltTy.packing .bf16)) ∧
  (∀ k0_t40 : Fin (k0_t40_loop v228 v257).trips, ∀ a, (k0_off1156 v1 k0_t34 v228 v257 k0_t40) a + S1x1x1x16x128.size a ≤ S2x2x108x128x128.size a) ∧
  (∀ k0_t40 : Fin (k0_t40_loop v228 v257).trips, ∀ (hinb : ∀ a, (k0_off1156 v1 k0_t34 v228 v257 k0_t40) a + S1x1x1x16x128.size a ≤ S2x2x108x128x128.size a), (Rect.unit (s := S2x2x108x128x128) (k0_off1156 v1 k0_t34 v228 v257 k0_t40) S1x1x1x16x128.size hinb).PackedRows (EltTy.packing .bf16)) ∧
  (∀ k0_t40 : Fin (k0_t40_loop v228 v257).trips, ∀ a, (k0_off1157 v1 k0_t34 v228 v257 k0_t40) a + S1x1x1x16x128.size a ≤ S2x2x108x128x128.size a) ∧
  (∀ k0_t40 : Fin (k0_t40_loop v228 v257).trips, ∀ (hinb : ∀ a, (k0_off1157 v1 k0_t34 v228 v257 k0_t40) a + S1x1x1x16x128.size a ≤ S2x2x108x128x128.size a), (Rect.unit (s := S2x2x108x128x128) (k0_off1157 v1 k0_t34 v228 v257 k0_t40) S1x1x1x16x128.size hinb).PackedRows (EltTy.packing .bf16)) ∧
  (∀ k0_t40 : Fin (k0_t40_loop v228 v257).trips, ∀ a, (k0_off1158 v1 k0_t34 v228 v257 k0_t40) a + S1x1x1x16x128.size a ≤ S2x2x108x128x128.size a) ∧
  (∀ k0_t40 : Fin (k0_t40_loop v228 v257).trips, ∀ (hinb : ∀ a, (k0_off1158 v1 k0_t34 v228 v257 k0_t40) a + S1x1x1x16x128.size a ≤ S2x2x108x128x128.size a), (Rect.unit (s := S2x2x108x128x128) (k0_off1158 v1 k0_t34 v228 v257 k0_t40) S1x1x1x16x128.size hinb).PackedRows (EltTy.packing .bf16)) ∧
  (∀ k0_t40 : Fin (k0_t40_loop v228 v257).trips, ∀ a, (k0_off1159 v1 k0_t34 v228 v257 k0_t40) a + S1x1x1x16x128.size a ≤ S2x2x108x128x128.size a) ∧
  (∀ k0_t40 : Fin (k0_t40_loop v228 v257).trips, ∀ (hinb : ∀ a, (k0_off1159 v1 k0_t34 v228 v257 k0_t40) a + S1x1x1x16x128.size a ≤ S2x2x108x128x128.size a), (Rect.unit (s := S2x2x108x128x128) (k0_off1159 v1 k0_t34 v228 v257 k0_t40) S1x1x1x16x128.size hinb).PackedRows (EltTy.packing .bf16)) ∧
  (∀ k0_t40 : Fin (k0_t40_loop v228 v257).trips, ∀ a, (k0_off1160 v1 k0_t34 v228 v257 k0_t40) a + S1x1x1x16x128.size a ≤ S2x2x108x128x128.size a) ∧
  (∀ k0_t40 : Fin (k0_t40_loop v228 v257).trips, ∀ (hinb : ∀ a, (k0_off1160 v1 k0_t34 v228 v257 k0_t40) a + S1x1x1x16x128.size a ≤ S2x2x108x128x128.size a), (Rect.unit (s := S2x2x108x128x128) (k0_off1160 v1 k0_t34 v228 v257 k0_t40) S1x1x1x16x128.size hinb).PackedRows (EltTy.packing .bf16)) ∧
  (∀ k0_t40 : Fin (k0_t40_loop v228 v257).trips, ∀ a, (k0_off1161 v1 k0_t34 v228 v257 k0_t40) a + S1x1x1x16x128.size a ≤ S2x2x108x128x128.size a) ∧
  (∀ k0_t40 : Fin (k0_t40_loop v228 v257).trips, ∀ (hinb : ∀ a, (k0_off1161 v1 k0_t34 v228 v257 k0_t40) a + S1x1x1x16x128.size a ≤ S2x2x108x128x128.size a), (Rect.unit (s := S2x2x108x128x128) (k0_off1161 v1 k0_t34 v228 v257 k0_t40) S1x1x1x16x128.size hinb).PackedRows (EltTy.packing .bf16)) ∧
  (∀ k0_t40 : Fin (k0_t40_loop v228 v257).trips, ∀ a, (k0_off1162 v1 k0_t34 v228 v257 k0_t40) a + S1x1x1x16x128.size a ≤ S2x2x108x128x128.size a) ∧
  (∀ k0_t40 : Fin (k0_t40_loop v228 v257).trips, ∀ (hinb : ∀ a, (k0_off1162 v1 k0_t34 v228 v257 k0_t40) a + S1x1x1x16x128.size a ≤ S2x2x108x128x128.size a), (Rect.unit (s := S2x2x108x128x128) (k0_off1162 v1 k0_t34 v228 v257 k0_t40) S1x1x1x16x128.size hinb).PackedRows (EltTy.packing .bf16)) ∧
  (∀ k0_t40 : Fin (k0_t40_loop v228 v257).trips, ∀ a, (k0_off1163 v1 k0_t34 v228 v257 k0_t40) a + S1x1x1x16x128.size a ≤ S2x2x108x128x128.size a) ∧
  (∀ k0_t40 : Fin (k0_t40_loop v228 v257).trips, ∀ (hinb : ∀ a, (k0_off1163 v1 k0_t34 v228 v257 k0_t40) a + S1x1x1x16x128.size a ≤ S2x2x108x128x128.size a), (Rect.unit (s := S2x2x108x128x128) (k0_off1163 v1 k0_t34 v228 v257 k0_t40) S1x1x1x16x128.size hinb).PackedRows (EltTy.packing .bf16))
def k0_chk21_31 (v1 : BitVec 32) (k0_t34 : Fin (k0_t34_loop v1).trips) (v228 : BitVec 32) (v257 : BitVec 32) : Prop :=
  ((k0_t43_loop v228 v257).OK) ∧
  (∀ k0_t43 : Fin (k0_t43_loop v228 v257).trips, ∀ a, (k0_off1177 v1 k0_t34) a + S1x1.size a ≤ S2x2.size a) ∧
  (∀ k0_t43 : Fin (k0_t43_loop v228 v257).trips, ∀ a, (k0_off1178 v1 k0_t34 v228 v257 k0_t43) a + S1x1x1x1728x128.size a ≤ S2x2x8x1728x128.size a) ∧
  (∀ k0_t43 : Fin (k0_t43_loop v228 v257).trips, ∀ (hinb : ∀ a, (k0_off1178 v1 k0_t34 v228 v257 k0_t43) a + S1x1x1x1728x128.size a ≤ S2x2x8x1728x128.size a), (Rect.unit (s := S2x2x8x1728x128) (k0_off1178 v1 k0_t34 v228 v257 k0_t43) S1x1x1x1728x128.size hinb).WholeWords (EltTy.packing .fp8e4m3)) ∧
  ((k0_t44_loop v228 v257).OK) ∧
  (∀ k0_t44 : Fin (k0_t44_loop v228 v257).trips, ∀ a, (k0_off1179 v1 k0_t34) a + S1x1.size a ≤ S2x2.size a) ∧
  (∀ k0_t44 : Fin (k0_t44_loop v228 v257).trips, ∀ a, (k0_off1180 v1 k0_t34 v228 v257 k0_t44) a + S1x1x1x1728x128.size a ≤ S2x2x8x1728x128.size a) ∧
  (∀ k0_t44 : Fin (k0_t44_loop v228 v257).trips, ∀ (hinb : ∀ a, (k0_off1180 v1 k0_t34 v228 v257 k0_t44) a + S1x1x1x1728x128.size a ≤ S2x2x8x1728x128.size a), (Rect.unit (s := S2x2x8x1728x128) (k0_off1180 v1 k0_t34 v228 v257 k0_t44) S1x1x1x1728x128.size hinb).WholeWords (EltTy.packing .fp8e4m3)) ∧
  ((k0_t45_loop v228 v257).OK) ∧
  (∀ k0_t45 : Fin (k0_t45_loop v228 v257).trips, ∀ a, (k0_off1183 v228 v257 k0_t45) a + S1x1.size a ≤ S8x128.size a) ∧
  (∀ k0_t45 : Fin (k0_t45_loop v228 v257).trips, ∀ a, (k0_off1184 v228) a + S1.size a ≤ S8.size a) ∧
  (∀ k0_t45 : Fin (k0_t45_loop v228 v257).trips, 16 ∣ (k0_mult12 v228 v257 k0_t45).toNat) ∧
  (∀ k0_t45 : Fin (k0_t45_loop v228 v257).trips, ∀ a, (k0_off1185 v1 k0_t34 v228 v257 k0_t45) a + S1x1x1x32x128.size a ≤ S2x2x8x1728x128.size a) ∧
  (∀ k0_t45 : Fin (k0_t45_loop v228 v257).trips, ∀ a, (k0_off1187 v1 k0_t34 v228 v257 k0_t45) a + S1x1x1x16x128.size a ≤ S2x2x108x128x128.size a) ∧
  (∀ k0_t45 : Fin (k0_t45_loop v228 v257).trips, ∀ (hinb : ∀ a, (k0_off1187 v1 k0_t34 v228 v257 k0_t45) a + S1x1x1x16x128.size a ≤ S2x2x108x128x128.size a), (Rect.unit (s := S2x2x108x128x128) (k0_off1187 v1 k0_t34 v228 v257 k0_t45) S1x1x1x16x128.size hinb).PackedRows (EltTy.packing .bf16)) ∧
  (∀ k0_t45 : Fin (k0_t45_loop v228 v257).trips, ∀ a, (k0_off1189 v1 k0_t34 v228 v257 k0_t45) a + S1x1x1x16x128.size a ≤ S2x2x108x128x128.size a) ∧
  (∀ k0_t45 : Fin (k0_t45_loop v228 v257).trips, ∀ (hinb : ∀ a, (k0_off1189 v1 k0_t34 v228 v257 k0_t45) a + S1x1x1x16x128.size a ≤ S2x2x108x128x128.size a), (Rect.unit (s := S2x2x108x128x128) (k0_off1189 v1 k0_t34 v228 v257 k0_t45) S1x1x1x16x128.size hinb).PackedRows (EltTy.packing .bf16)) ∧
  (∀ k0_t45 : Fin (k0_t45_loop v228 v257).trips, ∀ a, (k0_off1190 v1 k0_t34 v228 v257 k0_t45) a + S1x1x1x32x128.size a ≤ S2x2x8x1728x128.size a) ∧
  (∀ k0_t45 : Fin (k0_t45_loop v228 v257).trips, ∀ a, (k0_off1192 v1 k0_t34 v228 v257 k0_t45) a + S1x1x1x16x128.size a ≤ S2x2x108x128x128.size a) ∧
  (∀ k0_t45 : Fin (k0_t45_loop v228 v257).trips, ∀ (hinb : ∀ a, (k0_off1192 v1 k0_t34 v228 v257 k0_t45) a + S1x1x1x16x128.size a ≤ S2x2x108x128x128.size a), (Rect.unit (s := S2x2x108x128x128) (k0_off1192 v1 k0_t34 v228 v257 k0_t45) S1x1x1x16x128.size hinb).PackedRows (EltTy.packing .bf16)) ∧
  (∀ k0_t45 : Fin (k0_t45_loop v228 v257).trips, ∀ a, (k0_off1194 v1 k0_t34 v228 v257 k0_t45) a + S1x1x1x16x128.size a ≤ S2x2x108x128x128.size a) ∧
  (∀ k0_t45 : Fin (k0_t45_loop v228 v257).trips, ∀ (hinb : ∀ a, (k0_off1194 v1 k0_t34 v228 v257 k0_t45) a + S1x1x1x16x128.size a ≤ S2x2x108x128x128.size a), (Rect.unit (s := S2x2x108x128x128) (k0_off1194 v1 k0_t34 v228 v257 k0_t45) S1x1x1x16x128.size hinb).PackedRows (EltTy.packing .bf16)) ∧
  (∀ k0_t45 : Fin (k0_t45_loop v228 v257).trips, ∀ a, (k0_off1195 v1 k0_t34 v228 v257 k0_t45) a + S1x1x1x32x128.size a ≤ S2x2x8x1728x128.size a) ∧
  (∀ k0_t45 : Fin (k0_t45_loop v228 v257).trips, ∀ a, (k0_off1197 v1 k0_t34 v228 v257 k0_t45) a + S1x1x1x16x128.size a ≤ S2x2x108x128x128.size a) ∧
  (∀ k0_t45 : Fin (k0_t45_loop v228 v257).trips, ∀ (hinb : ∀ a, (k0_off1197 v1 k0_t34 v228 v257 k0_t45) a + S1x1x1x16x128.size a ≤ S2x2x108x128x128.size a), (Rect.unit (s := S2x2x108x128x128) (k0_off1197 v1 k0_t34 v228 v257 k0_t45) S1x1x1x16x128.size hinb).PackedRows (EltTy.packing .bf16)) ∧
  (∀ k0_t45 : Fin (k0_t45_loop v228 v257).trips, ∀ a, (k0_off1199 v1 k0_t34 v228 v257 k0_t45) a + S1x1x1x16x128.size a ≤ S2x2x108x128x128.size a) ∧
  (∀ k0_t45 : Fin (k0_t45_loop v228 v257).trips, ∀ (hinb : ∀ a, (k0_off1199 v1 k0_t34 v228 v257 k0_t45) a + S1x1x1x16x128.size a ≤ S2x2x108x128x128.size a), (Rect.unit (s := S2x2x108x128x128) (k0_off1199 v1 k0_t34 v228 v257 k0_t45) S1x1x1x16x128.size hinb).PackedRows (EltTy.packing .bf16)) ∧
  (∀ k0_t45 : Fin (k0_t45_loop v228 v257).trips, ∀ a, (k0_off1200 v1 k0_t34 v228 v257 k0_t45) a + S1x1x1x32x128.size a ≤ S2x2x8x1728x128.size a) ∧
  (∀ k0_t45 : Fin (k0_t45_loop v228 v257).trips, ∀ a, (k0_off1202 v1 k0_t34 v228 v257 k0_t45) a + S1x1x1x16x128.size a ≤ S2x2x108x128x128.size a) ∧
  (∀ k0_t45 : Fin (k0_t45_loop v228 v257).trips, ∀ (hinb : ∀ a, (k0_off1202 v1 k0_t34 v228 v257 k0_t45) a + S1x1x1x16x128.size a ≤ S2x2x108x128x128.size a), (Rect.unit (s := S2x2x108x128x128) (k0_off1202 v1 k0_t34 v228 v257 k0_t45) S1x1x1x16x128.size hinb).PackedRows (EltTy.packing .bf16)) ∧
  (∀ k0_t45 : Fin (k0_t45_loop v228 v257).trips, ∀ a, (k0_off1204 v1 k0_t34 v228 v257 k0_t45) a + S1x1x1x16x128.size a ≤ S2x2x108x128x128.size a) ∧
  (∀ k0_t45 : Fin (k0_t45_loop v228 v257).trips, ∀ (hinb : ∀ a, (k0_off1204 v1 k0_t34 v228 v257 k0_t45) a + S1x1x1x16x128.size a ≤ S2x2x108x128x128.size a), (Rect.unit (s := S2x2x108x128x128) (k0_off1204 v1 k0_t34 v228 v257 k0_t45) S1x1x1x16x128.size hinb).PackedRows (EltTy.packing .bf16))
def k0_chk21_32 (v1 : BitVec 32) (k0_t34 : Fin (k0_t34_loop v1).trips) (v228 : BitVec 32) (v257 : BitVec 32) : Prop :=
  (∀ k0_t45 : Fin (k0_t45_loop v228 v257).trips, ∀ a, (k0_off1205 v1 k0_t34 v228 v257 k0_t45) a + S1x1x1x32x128.size a ≤ S2x2x8x1728x128.size a) ∧
  (∀ k0_t45 : Fin (k0_t45_loop v228 v257).trips, ∀ a, (k0_off1207 v1 k0_t34 v228 v257 k0_t45) a + S1x1x1x16x128.size a ≤ S2x2x108x128x128.size a) ∧
  (∀ k0_t45 : Fin (k0_t45_loop v228 v257).trips, ∀ (hinb : ∀ a, (k0_off1207 v1 k0_t34 v228 v257 k0_t45) a + S1x1x1x16x128.size a ≤ S2x2x108x128x128.size a), (Rect.unit (s := S2x2x108x128x128) (k0_off1207 v1 k0_t34 v228 v257 k0_t45) S1x1x1x16x128.size hinb).PackedRows (EltTy.packing .bf16)) ∧
  (∀ k0_t45 : Fin (k0_t45_loop v228 v257).trips, ∀ a, (k0_off1209 v1 k0_t34 v228 v257 k0_t45) a + S1x1x1x16x128.size a ≤ S2x2x108x128x128.size a) ∧
  (∀ k0_t45 : Fin (k0_t45_loop v228 v257).trips, ∀ (hinb : ∀ a, (k0_off1209 v1 k0_t34 v228 v257 k0_t45) a + S1x1x1x16x128.size a ≤ S2x2x108x128x128.size a), (Rect.unit (s := S2x2x108x128x128) (k0_off1209 v1 k0_t34 v228 v257 k0_t45) S1x1x1x16x128.size hinb).PackedRows (EltTy.packing .bf16)) ∧
  (∀ k0_t45 : Fin (k0_t45_loop v228 v257).trips, ∀ a, (k0_off1210 v1 k0_t34 v228 v257 k0_t45) a + S1x1x1x32x128.size a ≤ S2x2x8x1728x128.size a) ∧
  (∀ k0_t45 : Fin (k0_t45_loop v228 v257).trips, ∀ a, (k0_off1212 v1 k0_t34 v228 v257 k0_t45) a + S1x1x1x16x128.size a ≤ S2x2x108x128x128.size a) ∧
  (∀ k0_t45 : Fin (k0_t45_loop v228 v257).trips, ∀ (hinb : ∀ a, (k0_off1212 v1 k0_t34 v228 v257 k0_t45) a + S1x1x1x16x128.size a ≤ S2x2x108x128x128.size a), (Rect.unit (s := S2x2x108x128x128) (k0_off1212 v1 k0_t34 v228 v257 k0_t45) S1x1x1x16x128.size hinb).PackedRows (EltTy.packing .bf16)) ∧
  (∀ k0_t45 : Fin (k0_t45_loop v228 v257).trips, ∀ a, (k0_off1214 v1 k0_t34 v228 v257 k0_t45) a + S1x1x1x16x128.size a ≤ S2x2x108x128x128.size a) ∧
  (∀ k0_t45 : Fin (k0_t45_loop v228 v257).trips, ∀ (hinb : ∀ a, (k0_off1214 v1 k0_t34 v228 v257 k0_t45) a + S1x1x1x16x128.size a ≤ S2x2x108x128x128.size a), (Rect.unit (s := S2x2x108x128x128) (k0_off1214 v1 k0_t34 v228 v257 k0_t45) S1x1x1x16x128.size hinb).PackedRows (EltTy.packing .bf16)) ∧
  (∀ k0_t45 : Fin (k0_t45_loop v228 v257).trips, ∀ a, (k0_off1215 v1 k0_t34 v228 v257 k0_t45) a + S1x1x1x32x128.size a ≤ S2x2x8x1728x128.size a) ∧
  (∀ k0_t45 : Fin (k0_t45_loop v228 v257).trips, ∀ a, (k0_off1217 v1 k0_t34 v228 v257 k0_t45) a + S1x1x1x16x128.size a ≤ S2x2x108x128x128.size a) ∧
  (∀ k0_t45 : Fin (k0_t45_loop v228 v257).trips, ∀ (hinb : ∀ a, (k0_off1217 v1 k0_t34 v228 v257 k0_t45) a + S1x1x1x16x128.size a ≤ S2x2x108x128x128.size a), (Rect.unit (s := S2x2x108x128x128) (k0_off1217 v1 k0_t34 v228 v257 k0_t45) S1x1x1x16x128.size hinb).PackedRows (EltTy.packing .bf16)) ∧
  (∀ k0_t45 : Fin (k0_t45_loop v228 v257).trips, ∀ a, (k0_off1219 v1 k0_t34 v228 v257 k0_t45) a + S1x1x1x16x128.size a ≤ S2x2x108x128x128.size a) ∧
  (∀ k0_t45 : Fin (k0_t45_loop v228 v257).trips, ∀ (hinb : ∀ a, (k0_off1219 v1 k0_t34 v228 v257 k0_t45) a + S1x1x1x16x128.size a ≤ S2x2x108x128x128.size a), (Rect.unit (s := S2x2x108x128x128) (k0_off1219 v1 k0_t34 v228 v257 k0_t45) S1x1x1x16x128.size hinb).PackedRows (EltTy.packing .bf16)) ∧
  (∀ k0_t45 : Fin (k0_t45_loop v228 v257).trips, ∀ a, (k0_off1220 v1 k0_t34 v228 v257 k0_t45) a + S1x1x1x32x128.size a ≤ S2x2x8x1728x128.size a) ∧
  (∀ k0_t45 : Fin (k0_t45_loop v228 v257).trips, ∀ a, (k0_off1222 v1 k0_t34 v228 v257 k0_t45) a + S1x1x1x16x128.size a ≤ S2x2x108x128x128.size a) ∧
  (∀ k0_t45 : Fin (k0_t45_loop v228 v257).trips, ∀ (hinb : ∀ a, (k0_off1222 v1 k0_t34 v228 v257 k0_t45) a + S1x1x1x16x128.size a ≤ S2x2x108x128x128.size a), (Rect.unit (s := S2x2x108x128x128) (k0_off1222 v1 k0_t34 v228 v257 k0_t45) S1x1x1x16x128.size hinb).PackedRows (EltTy.packing .bf16)) ∧
  (∀ k0_t45 : Fin (k0_t45_loop v228 v257).trips, ∀ a, (k0_off1224 v1 k0_t34 v228 v257 k0_t45) a + S1x1x1x16x128.size a ≤ S2x2x108x128x128.size a) ∧
  (∀ k0_t45 : Fin (k0_t45_loop v228 v257).trips, ∀ (hinb : ∀ a, (k0_off1224 v1 k0_t34 v228 v257 k0_t45) a + S1x1x1x16x128.size a ≤ S2x2x108x128x128.size a), (Rect.unit (s := S2x2x108x128x128) (k0_off1224 v1 k0_t34 v228 v257 k0_t45) S1x1x1x16x128.size hinb).PackedRows (EltTy.packing .bf16)) ∧
  (∀ k0_t45 : Fin (k0_t45_loop v228 v257).trips, ∀ a, (k0_off1225 v1 k0_t34 v228 v257 k0_t45) a + S1x1x1x32x128.size a ≤ S2x2x8x1728x128.size a) ∧
  (∀ k0_t45 : Fin (k0_t45_loop v228 v257).trips, ∀ a, (k0_off1227 v1 k0_t34 v228 v257 k0_t45) a + S1x1x1x16x128.size a ≤ S2x2x108x128x128.size a) ∧
  (∀ k0_t45 : Fin (k0_t45_loop v228 v257).trips, ∀ (hinb : ∀ a, (k0_off1227 v1 k0_t34 v228 v257 k0_t45) a + S1x1x1x16x128.size a ≤ S2x2x108x128x128.size a), (Rect.unit (s := S2x2x108x128x128) (k0_off1227 v1 k0_t34 v228 v257 k0_t45) S1x1x1x16x128.size hinb).PackedRows (EltTy.packing .bf16)) ∧
  (∀ k0_t45 : Fin (k0_t45_loop v228 v257).trips, ∀ a, (k0_off1229 v1 k0_t34 v228 v257 k0_t45) a + S1x1x1x16x128.size a ≤ S2x2x108x128x128.size a) ∧
  (∀ k0_t45 : Fin (k0_t45_loop v228 v257).trips, ∀ (hinb : ∀ a, (k0_off1229 v1 k0_t34 v228 v257 k0_t45) a + S1x1x1x16x128.size a ≤ S2x2x108x128x128.size a), (Rect.unit (s := S2x2x108x128x128) (k0_off1229 v1 k0_t34 v228 v257 k0_t45) S1x1x1x16x128.size hinb).PackedRows (EltTy.packing .bf16)) ∧
  (∀ k0_t45 : Fin (k0_t45_loop v228 v257).trips, ∀ a, (k0_off1230 v1 k0_t34 v228 v257 k0_t45) a + S1x1x1x32x128.size a ≤ S2x2x8x1728x128.size a) ∧
  (∀ k0_t45 : Fin (k0_t45_loop v228 v257).trips, ∀ a, (k0_off1232 v1 k0_t34 v228 v257 k0_t45) a + S1x1x1x16x128.size a ≤ S2x2x108x128x128.size a) ∧
  (∀ k0_t45 : Fin (k0_t45_loop v228 v257).trips, ∀ (hinb : ∀ a, (k0_off1232 v1 k0_t34 v228 v257 k0_t45) a + S1x1x1x16x128.size a ≤ S2x2x108x128x128.size a), (Rect.unit (s := S2x2x108x128x128) (k0_off1232 v1 k0_t34 v228 v257 k0_t45) S1x1x1x16x128.size hinb).PackedRows (EltTy.packing .bf16)) ∧
  (∀ k0_t45 : Fin (k0_t45_loop v228 v257).trips, ∀ a, (k0_off1234 v1 k0_t34 v228 v257 k0_t45) a + S1x1x1x16x128.size a ≤ S2x2x108x128x128.size a) ∧
  (∀ k0_t45 : Fin (k0_t45_loop v228 v257).trips, ∀ (hinb : ∀ a, (k0_off1234 v1 k0_t34 v228 v257 k0_t45) a + S1x1x1x16x128.size a ≤ S2x2x108x128x128.size a), (Rect.unit (s := S2x2x108x128x128) (k0_off1234 v1 k0_t34 v228 v257 k0_t45) S1x1x1x16x128.size hinb).PackedRows (EltTy.packing .bf16)) ∧
  (∀ k0_t45 : Fin (k0_t45_loop v228 v257).trips, ∀ a, (k0_off1235 v1 k0_t34 v228 v257 k0_t45) a + S1x1x1x32x128.size a ≤ S2x2x8x1728x128.size a) ∧
  (∀ k0_t45 : Fin (k0_t45_loop v228 v257).trips, ∀ a, (k0_off1237 v1 k0_t34 v228 v257 k0_t45) a + S1x1x1x16x128.size a ≤ S2x2x108x128x128.size a)
def k0_chk21_33 (v1 : BitVec 32) (k0_t34 : Fin (k0_t34_loop v1).trips) (v228 : BitVec 32) (v257 : BitVec 32) : Prop :=
  (∀ k0_t45 : Fin (k0_t45_loop v228 v257).trips, ∀ (hinb : ∀ a, (k0_off1237 v1 k0_t34 v228 v257 k0_t45) a + S1x1x1x16x128.size a ≤ S2x2x108x128x128.size a), (Rect.unit (s := S2x2x108x128x128) (k0_off1237 v1 k0_t34 v228 v257 k0_t45) S1x1x1x16x128.size hinb).PackedRows (EltTy.packing .bf16)) ∧
  (∀ k0_t45 : Fin (k0_t45_loop v228 v257).trips, ∀ a, (k0_off1239 v1 k0_t34 v228 v257 k0_t45) a + S1x1x1x16x128.size a ≤ S2x2x108x128x128.size a) ∧
  (∀ k0_t45 : Fin (k0_t45_loop v228 v257).trips, ∀ (hinb : ∀ a, (k0_off1239 v1 k0_t34 v228 v257 k0_t45) a + S1x1x1x16x128.size a ≤ S2x2x108x128x128.size a), (Rect.unit (s := S2x2x108x128x128) (k0_off1239 v1 k0_t34 v228 v257 k0_t45) S1x1x1x16x128.size hinb).PackedRows (EltTy.packing .bf16)) ∧
  (∀ k0_t45 : Fin (k0_t45_loop v228 v257).trips, ∀ a, (k0_off1240 v1 k0_t34 v228 v257 k0_t45) a + S1x1x1x32x128.size a ≤ S2x2x8x1728x128.size a) ∧
  (∀ k0_t45 : Fin (k0_t45_loop v228 v257).trips, ∀ a, (k0_off1242 v1 k0_t34 v228 v257 k0_t45) a + S1x1x1x16x128.size a ≤ S2x2x108x128x128.size a) ∧
  (∀ k0_t45 : Fin (k0_t45_loop v228 v257).trips, ∀ (hinb : ∀ a, (k0_off1242 v1 k0_t34 v228 v257 k0_t45) a + S1x1x1x16x128.size a ≤ S2x2x108x128x128.size a), (Rect.unit (s := S2x2x108x128x128) (k0_off1242 v1 k0_t34 v228 v257 k0_t45) S1x1x1x16x128.size hinb).PackedRows (EltTy.packing .bf16)) ∧
  (∀ k0_t45 : Fin (k0_t45_loop v228 v257).trips, ∀ a, (k0_off1244 v1 k0_t34 v228 v257 k0_t45) a + S1x1x1x16x128.size a ≤ S2x2x108x128x128.size a) ∧
  (∀ k0_t45 : Fin (k0_t45_loop v228 v257).trips, ∀ (hinb : ∀ a, (k0_off1244 v1 k0_t34 v228 v257 k0_t45) a + S1x1x1x16x128.size a ≤ S2x2x108x128x128.size a), (Rect.unit (s := S2x2x108x128x128) (k0_off1244 v1 k0_t34 v228 v257 k0_t45) S1x1x1x16x128.size hinb).PackedRows (EltTy.packing .bf16)) ∧
  (∀ k0_t45 : Fin (k0_t45_loop v228 v257).trips, ∀ a, (k0_off1245 v1 k0_t34 v228 v257 k0_t45) a + S1x1x1x32x128.size a ≤ S2x2x8x1728x128.size a) ∧
  (∀ k0_t45 : Fin (k0_t45_loop v228 v257).trips, ∀ a, (k0_off1247 v1 k0_t34 v228 v257 k0_t45) a + S1x1x1x16x128.size a ≤ S2x2x108x128x128.size a) ∧
  (∀ k0_t45 : Fin (k0_t45_loop v228 v257).trips, ∀ (hinb : ∀ a, (k0_off1247 v1 k0_t34 v228 v257 k0_t45) a + S1x1x1x16x128.size a ≤ S2x2x108x128x128.size a), (Rect.unit (s := S2x2x108x128x128) (k0_off1247 v1 k0_t34 v228 v257 k0_t45) S1x1x1x16x128.size hinb).PackedRows (EltTy.packing .bf16)) ∧
  (∀ k0_t45 : Fin (k0_t45_loop v228 v257).trips, ∀ a, (k0_off1249 v1 k0_t34 v228 v257 k0_t45) a + S1x1x1x16x128.size a ≤ S2x2x108x128x128.size a) ∧
  (∀ k0_t45 : Fin (k0_t45_loop v228 v257).trips, ∀ (hinb : ∀ a, (k0_off1249 v1 k0_t34 v228 v257 k0_t45) a + S1x1x1x16x128.size a ≤ S2x2x108x128x128.size a), (Rect.unit (s := S2x2x108x128x128) (k0_off1249 v1 k0_t34 v228 v257 k0_t45) S1x1x1x16x128.size hinb).PackedRows (EltTy.packing .bf16)) ∧
  (∀ k0_t45 : Fin (k0_t45_loop v228 v257).trips, ∀ a, (k0_off1250 v1 k0_t34 v228 v257 k0_t45) a + S1x1x1x32x128.size a ≤ S2x2x8x1728x128.size a) ∧
  (∀ k0_t45 : Fin (k0_t45_loop v228 v257).trips, ∀ a, (k0_off1252 v1 k0_t34 v228 v257 k0_t45) a + S1x1x1x16x128.size a ≤ S2x2x108x128x128.size a) ∧
  (∀ k0_t45 : Fin (k0_t45_loop v228 v257).trips, ∀ (hinb : ∀ a, (k0_off1252 v1 k0_t34 v228 v257 k0_t45) a + S1x1x1x16x128.size a ≤ S2x2x108x128x128.size a), (Rect.unit (s := S2x2x108x128x128) (k0_off1252 v1 k0_t34 v228 v257 k0_t45) S1x1x1x16x128.size hinb).PackedRows (EltTy.packing .bf16)) ∧
  (∀ k0_t45 : Fin (k0_t45_loop v228 v257).trips, ∀ a, (k0_off1254 v1 k0_t34 v228 v257 k0_t45) a + S1x1x1x16x128.size a ≤ S2x2x108x128x128.size a) ∧
  (∀ k0_t45 : Fin (k0_t45_loop v228 v257).trips, ∀ (hinb : ∀ a, (k0_off1254 v1 k0_t34 v228 v257 k0_t45) a + S1x1x1x16x128.size a ≤ S2x2x108x128x128.size a), (Rect.unit (s := S2x2x108x128x128) (k0_off1254 v1 k0_t34 v228 v257 k0_t45) S1x1x1x16x128.size hinb).PackedRows (EltTy.packing .bf16)) ∧
  (∀ k0_t45 : Fin (k0_t45_loop v228 v257).trips, ∀ a, (k0_off1255 v1 k0_t34 v228 v257 k0_t45) a + S1x1x1x32x128.size a ≤ S2x2x8x1728x128.size a) ∧
  (∀ k0_t45 : Fin (k0_t45_loop v228 v257).trips, ∀ a, (k0_off1257 v1 k0_t34 v228 v257 k0_t45) a + S1x1x1x16x128.size a ≤ S2x2x108x128x128.size a) ∧
  (∀ k0_t45 : Fin (k0_t45_loop v228 v257).trips, ∀ (hinb : ∀ a, (k0_off1257 v1 k0_t34 v228 v257 k0_t45) a + S1x1x1x16x128.size a ≤ S2x2x108x128x128.size a), (Rect.unit (s := S2x2x108x128x128) (k0_off1257 v1 k0_t34 v228 v257 k0_t45) S1x1x1x16x128.size hinb).PackedRows (EltTy.packing .bf16)) ∧
  (∀ k0_t45 : Fin (k0_t45_loop v228 v257).trips, ∀ a, (k0_off1259 v1 k0_t34 v228 v257 k0_t45) a + S1x1x1x16x128.size a ≤ S2x2x108x128x128.size a) ∧
  (∀ k0_t45 : Fin (k0_t45_loop v228 v257).trips, ∀ (hinb : ∀ a, (k0_off1259 v1 k0_t34 v228 v257 k0_t45) a + S1x1x1x16x128.size a ≤ S2x2x108x128x128.size a), (Rect.unit (s := S2x2x108x128x128) (k0_off1259 v1 k0_t34 v228 v257 k0_t45) S1x1x1x16x128.size hinb).PackedRows (EltTy.packing .bf16)) ∧
  (∀ k0_t45 : Fin (k0_t45_loop v228 v257).trips, ∀ a, (k0_off1260 v1 k0_t34 v228 v257 k0_t45) a + S1x1x1x32x128.size a ≤ S2x2x8x1728x128.size a) ∧
  (∀ k0_t45 : Fin (k0_t45_loop v228 v257).trips, ∀ a, (k0_off1262 v1 k0_t34 v228 v257 k0_t45) a + S1x1x1x16x128.size a ≤ S2x2x108x128x128.size a) ∧
  (∀ k0_t45 : Fin (k0_t45_loop v228 v257).trips, ∀ (hinb : ∀ a, (k0_off1262 v1 k0_t34 v228 v257 k0_t45) a + S1x1x1x16x128.size a ≤ S2x2x108x128x128.size a), (Rect.unit (s := S2x2x108x128x128) (k0_off1262 v1 k0_t34 v228 v257 k0_t45) S1x1x1x16x128.size hinb).PackedRows (EltTy.packing .bf16)) ∧
  (∀ k0_t45 : Fin (k0_t45_loop v228 v257).trips, ∀ a, (k0_off1264 v1 k0_t34 v228 v257 k0_t45) a + S1x1x1x16x128.size a ≤ S2x2x108x128x128.size a) ∧
  (∀ k0_t45 : Fin (k0_t45_loop v228 v257).trips, ∀ (hinb : ∀ a, (k0_off1264 v1 k0_t34 v228 v257 k0_t45) a + S1x1x1x16x128.size a ≤ S2x2x108x128x128.size a), (Rect.unit (s := S2x2x108x128x128) (k0_off1264 v1 k0_t34 v228 v257 k0_t45) S1x1x1x16x128.size hinb).PackedRows (EltTy.packing .bf16)) ∧
  (∀ k0_t45 : Fin (k0_t45_loop v228 v257).trips, ∀ a, (k0_off1265 v1 k0_t34 v228 v257 k0_t45) a + S1x1x1x32x128.size a ≤ S2x2x8x1728x128.size a) ∧
  (∀ k0_t45 : Fin (k0_t45_loop v228 v257).trips, ∀ a, (k0_off1267 v1 k0_t34 v228 v257 k0_t45) a + S1x1x1x16x128.size a ≤ S2x2x108x128x128.size a) ∧
  (∀ k0_t45 : Fin (k0_t45_loop v228 v257).trips, ∀ (hinb : ∀ a, (k0_off1267 v1 k0_t34 v228 v257 k0_t45) a + S1x1x1x16x128.size a ≤ S2x2x108x128x128.size a), (Rect.unit (s := S2x2x108x128x128) (k0_off1267 v1 k0_t34 v228 v257 k0_t45) S1x1x1x16x128.size hinb).PackedRows (EltTy.packing .bf16)) ∧
  (∀ k0_t45 : Fin (k0_t45_loop v228 v257).trips, ∀ a, (k0_off1269 v1 k0_t34 v228 v257 k0_t45) a + S1x1x1x16x128.size a ≤ S2x2x108x128x128.size a)
def k0_chk21_34 (v1 : BitVec 32) (k0_t34 : Fin (k0_t34_loop v1).trips) (v228 : BitVec 32) (v257 : BitVec 32) : Prop :=
  (∀ k0_t45 : Fin (k0_t45_loop v228 v257).trips, ∀ (hinb : ∀ a, (k0_off1269 v1 k0_t34 v228 v257 k0_t45) a + S1x1x1x16x128.size a ≤ S2x2x108x128x128.size a), (Rect.unit (s := S2x2x108x128x128) (k0_off1269 v1 k0_t34 v228 v257 k0_t45) S1x1x1x16x128.size hinb).PackedRows (EltTy.packing .bf16)) ∧
  (∀ k0_t45 : Fin (k0_t45_loop v228 v257).trips, ∀ a, (k0_off1270 v1 k0_t34 v228 v257 k0_t45) a + S1x1x1x32x128.size a ≤ S2x2x8x1728x128.size a) ∧
  (∀ k0_t45 : Fin (k0_t45_loop v228 v257).trips, ∀ a, (k0_off1272 v1 k0_t34 v228 v257 k0_t45) a + S1x1x1x16x128.size a ≤ S2x2x108x128x128.size a) ∧
  (∀ k0_t45 : Fin (k0_t45_loop v228 v257).trips, ∀ (hinb : ∀ a, (k0_off1272 v1 k0_t34 v228 v257 k0_t45) a + S1x1x1x16x128.size a ≤ S2x2x108x128x128.size a), (Rect.unit (s := S2x2x108x128x128) (k0_off1272 v1 k0_t34 v228 v257 k0_t45) S1x1x1x16x128.size hinb).PackedRows (EltTy.packing .bf16)) ∧
  (∀ k0_t45 : Fin (k0_t45_loop v228 v257).trips, ∀ a, (k0_off1274 v1 k0_t34 v228 v257 k0_t45) a + S1x1x1x16x128.size a ≤ S2x2x108x128x128.size a) ∧
  (∀ k0_t45 : Fin (k0_t45_loop v228 v257).trips, ∀ (hinb : ∀ a, (k0_off1274 v1 k0_t34 v228 v257 k0_t45) a + S1x1x1x16x128.size a ≤ S2x2x108x128x128.size a), (Rect.unit (s := S2x2x108x128x128) (k0_off1274 v1 k0_t34 v228 v257 k0_t45) S1x1x1x16x128.size hinb).PackedRows (EltTy.packing .bf16)) ∧
  (∀ k0_t45 : Fin (k0_t45_loop v228 v257).trips, ∀ a, (k0_off1275 v1 k0_t34 v228 v257 k0_t45) a + S1x1x1x32x128.size a ≤ S2x2x8x1728x128.size a) ∧
  (∀ k0_t45 : Fin (k0_t45_loop v228 v257).trips, ∀ a, (k0_off1277 v1 k0_t34 v228 v257 k0_t45) a + S1x1x1x16x128.size a ≤ S2x2x108x128x128.size a) ∧
  (∀ k0_t45 : Fin (k0_t45_loop v228 v257).trips, ∀ (hinb : ∀ a, (k0_off1277 v1 k0_t34 v228 v257 k0_t45) a + S1x1x1x16x128.size a ≤ S2x2x108x128x128.size a), (Rect.unit (s := S2x2x108x128x128) (k0_off1277 v1 k0_t34 v228 v257 k0_t45) S1x1x1x16x128.size hinb).PackedRows (EltTy.packing .bf16)) ∧
  (∀ k0_t45 : Fin (k0_t45_loop v228 v257).trips, ∀ a, (k0_off1279 v1 k0_t34 v228 v257 k0_t45) a + S1x1x1x16x128.size a ≤ S2x2x108x128x128.size a) ∧
  (∀ k0_t45 : Fin (k0_t45_loop v228 v257).trips, ∀ (hinb : ∀ a, (k0_off1279 v1 k0_t34 v228 v257 k0_t45) a + S1x1x1x16x128.size a ≤ S2x2x108x128x128.size a), (Rect.unit (s := S2x2x108x128x128) (k0_off1279 v1 k0_t34 v228 v257 k0_t45) S1x1x1x16x128.size hinb).PackedRows (EltTy.packing .bf16)) ∧
  (∀ k0_t45 : Fin (k0_t45_loop v228 v257).trips, ∀ a, (k0_off1280 v1 k0_t34 v228 v257 k0_t45) a + S1x1x1x32x128.size a ≤ S2x2x8x1728x128.size a) ∧
  (∀ k0_t45 : Fin (k0_t45_loop v228 v257).trips, ∀ a, (k0_off1282 v1 k0_t34 v228 v257 k0_t45) a + S1x1x1x16x128.size a ≤ S2x2x108x128x128.size a) ∧
  (∀ k0_t45 : Fin (k0_t45_loop v228 v257).trips, ∀ (hinb : ∀ a, (k0_off1282 v1 k0_t34 v228 v257 k0_t45) a + S1x1x1x16x128.size a ≤ S2x2x108x128x128.size a), (Rect.unit (s := S2x2x108x128x128) (k0_off1282 v1 k0_t34 v228 v257 k0_t45) S1x1x1x16x128.size hinb).PackedRows (EltTy.packing .bf16)) ∧
  (∀ k0_t45 : Fin (k0_t45_loop v228 v257).trips, ∀ a, (k0_off1284 v1 k0_t34 v228 v257 k0_t45) a + S1x1x1x16x128.size a ≤ S2x2x108x128x128.size a) ∧
  (∀ k0_t45 : Fin (k0_t45_loop v228 v257).trips, ∀ (hinb : ∀ a, (k0_off1284 v1 k0_t34 v228 v257 k0_t45) a + S1x1x1x16x128.size a ≤ S2x2x108x128x128.size a), (Rect.unit (s := S2x2x108x128x128) (k0_off1284 v1 k0_t34 v228 v257 k0_t45) S1x1x1x16x128.size hinb).PackedRows (EltTy.packing .bf16)) ∧
  (∀ k0_t45 : Fin (k0_t45_loop v228 v257).trips, ∀ a, (k0_off1285 v1 k0_t34 v228 v257 k0_t45) a + S1x1x1x32x128.size a ≤ S2x2x8x1728x128.size a) ∧
  (∀ k0_t45 : Fin (k0_t45_loop v228 v257).trips, ∀ a, (k0_off1287 v1 k0_t34 v228 v257 k0_t45) a + S1x1x1x16x128.size a ≤ S2x2x108x128x128.size a) ∧
  (∀ k0_t45 : Fin (k0_t45_loop v228 v257).trips, ∀ (hinb : ∀ a, (k0_off1287 v1 k0_t34 v228 v257 k0_t45) a + S1x1x1x16x128.size a ≤ S2x2x108x128x128.size a), (Rect.unit (s := S2x2x108x128x128) (k0_off1287 v1 k0_t34 v228 v257 k0_t45) S1x1x1x16x128.size hinb).PackedRows (EltTy.packing .bf16)) ∧
  (∀ k0_t45 : Fin (k0_t45_loop v228 v257).trips, ∀ a, (k0_off1289 v1 k0_t34 v228 v257 k0_t45) a + S1x1x1x16x128.size a ≤ S2x2x108x128x128.size a) ∧
  (∀ k0_t45 : Fin (k0_t45_loop v228 v257).trips, ∀ (hinb : ∀ a, (k0_off1289 v1 k0_t34 v228 v257 k0_t45) a + S1x1x1x16x128.size a ≤ S2x2x108x128x128.size a), (Rect.unit (s := S2x2x108x128x128) (k0_off1289 v1 k0_t34 v228 v257 k0_t45) S1x1x1x16x128.size hinb).PackedRows (EltTy.packing .bf16)) ∧
  (∀ k0_t45 : Fin (k0_t45_loop v228 v257).trips, ∀ a, (k0_off1290 v1 k0_t34 v228 v257 k0_t45) a + S1x1x1x32x128.size a ≤ S2x2x8x1728x128.size a) ∧
  (∀ k0_t45 : Fin (k0_t45_loop v228 v257).trips, ∀ a, (k0_off1292 v1 k0_t34 v228 v257 k0_t45) a + S1x1x1x16x128.size a ≤ S2x2x108x128x128.size a) ∧
  (∀ k0_t45 : Fin (k0_t45_loop v228 v257).trips, ∀ (hinb : ∀ a, (k0_off1292 v1 k0_t34 v228 v257 k0_t45) a + S1x1x1x16x128.size a ≤ S2x2x108x128x128.size a), (Rect.unit (s := S2x2x108x128x128) (k0_off1292 v1 k0_t34 v228 v257 k0_t45) S1x1x1x16x128.size hinb).PackedRows (EltTy.packing .bf16)) ∧
  (∀ k0_t45 : Fin (k0_t45_loop v228 v257).trips, ∀ a, (k0_off1294 v1 k0_t34 v228 v257 k0_t45) a + S1x1x1x16x128.size a ≤ S2x2x108x128x128.size a) ∧
  (∀ k0_t45 : Fin (k0_t45_loop v228 v257).trips, ∀ (hinb : ∀ a, (k0_off1294 v1 k0_t34 v228 v257 k0_t45) a + S1x1x1x16x128.size a ≤ S2x2x108x128x128.size a), (Rect.unit (s := S2x2x108x128x128) (k0_off1294 v1 k0_t34 v228 v257 k0_t45) S1x1x1x16x128.size hinb).PackedRows (EltTy.packing .bf16)) ∧
  (∀ k0_t45 : Fin (k0_t45_loop v228 v257).trips, ∀ a, (k0_off1295 v1 k0_t34 v228 v257 k0_t45) a + S1x1x1x32x128.size a ≤ S2x2x8x1728x128.size a) ∧
  (∀ k0_t45 : Fin (k0_t45_loop v228 v257).trips, ∀ a, (k0_off1297 v1 k0_t34 v228 v257 k0_t45) a + S1x1x1x16x128.size a ≤ S2x2x108x128x128.size a) ∧
  (∀ k0_t45 : Fin (k0_t45_loop v228 v257).trips, ∀ (hinb : ∀ a, (k0_off1297 v1 k0_t34 v228 v257 k0_t45) a + S1x1x1x16x128.size a ≤ S2x2x108x128x128.size a), (Rect.unit (s := S2x2x108x128x128) (k0_off1297 v1 k0_t34 v228 v257 k0_t45) S1x1x1x16x128.size hinb).PackedRows (EltTy.packing .bf16)) ∧
  (∀ k0_t45 : Fin (k0_t45_loop v228 v257).trips, ∀ a, (k0_off1299 v1 k0_t34 v228 v257 k0_t45) a + S1x1x1x16x128.size a ≤ S2x2x108x128x128.size a) ∧
  (∀ k0_t45 : Fin (k0_t45_loop v228 v257).trips, ∀ (hinb : ∀ a, (k0_off1299 v1 k0_t34 v228 v257 k0_t45) a + S1x1x1x16x128.size a ≤ S2x2x108x128x128.size a), (Rect.unit (s := S2x2x108x128x128) (k0_off1299 v1 k0_t34 v228 v257 k0_t45) S1x1x1x16x128.size hinb).PackedRows (EltTy.packing .bf16)) ∧
  (∀ k0_t45 : Fin (k0_t45_loop v228 v257).trips, ∀ a, (k0_off1300 v1 k0_t34 v228 v257 k0_t45) a + S1x1x1x32x128.size a ≤ S2x2x8x1728x128.size a)
def k0_chk21_35 (v1 : BitVec 32) (k0_t34 : Fin (k0_t34_loop v1).trips) (v228 : BitVec 32) (v257 : BitVec 32) : Prop :=
  (∀ k0_t45 : Fin (k0_t45_loop v228 v257).trips, ∀ a, (k0_off1302 v1 k0_t34 v228 v257 k0_t45) a + S1x1x1x16x128.size a ≤ S2x2x108x128x128.size a) ∧
  (∀ k0_t45 : Fin (k0_t45_loop v228 v257).trips, ∀ (hinb : ∀ a, (k0_off1302 v1 k0_t34 v228 v257 k0_t45) a + S1x1x1x16x128.size a ≤ S2x2x108x128x128.size a), (Rect.unit (s := S2x2x108x128x128) (k0_off1302 v1 k0_t34 v228 v257 k0_t45) S1x1x1x16x128.size hinb).PackedRows (EltTy.packing .bf16)) ∧
  (∀ k0_t45 : Fin (k0_t45_loop v228 v257).trips, ∀ a, (k0_off1304 v1 k0_t34 v228 v257 k0_t45) a + S1x1x1x16x128.size a ≤ S2x2x108x128x128.size a) ∧
  (∀ k0_t45 : Fin (k0_t45_loop v228 v257).trips, ∀ (hinb : ∀ a, (k0_off1304 v1 k0_t34 v228 v257 k0_t45) a + S1x1x1x16x128.size a ≤ S2x2x108x128x128.size a), (Rect.unit (s := S2x2x108x128x128) (k0_off1304 v1 k0_t34 v228 v257 k0_t45) S1x1x1x16x128.size hinb).PackedRows (EltTy.packing .bf16)) ∧
  (∀ k0_t45 : Fin (k0_t45_loop v228 v257).trips, ∀ a, (k0_off1305 v1 k0_t34 v228 v257 k0_t45) a + S1x1x1x32x128.size a ≤ S2x2x8x1728x128.size a) ∧
  (∀ k0_t45 : Fin (k0_t45_loop v228 v257).trips, ∀ a, (k0_off1307 v1 k0_t34 v228 v257 k0_t45) a + S1x1x1x16x128.size a ≤ S2x2x108x128x128.size a) ∧
  (∀ k0_t45 : Fin (k0_t45_loop v228 v257).trips, ∀ (hinb : ∀ a, (k0_off1307 v1 k0_t34 v228 v257 k0_t45) a + S1x1x1x16x128.size a ≤ S2x2x108x128x128.size a), (Rect.unit (s := S2x2x108x128x128) (k0_off1307 v1 k0_t34 v228 v257 k0_t45) S1x1x1x16x128.size hinb).PackedRows (EltTy.packing .bf16)) ∧
  (∀ k0_t45 : Fin (k0_t45_loop v228 v257).trips, ∀ a, (k0_off1309 v1 k0_t34 v228 v257 k0_t45) a + S1x1x1x16x128.size a ≤ S2x2x108x128x128.size a) ∧
  (∀ k0_t45 : Fin (k0_t45_loop v228 v257).trips, ∀ (hinb : ∀ a, (k0_off1309 v1 k0_t34 v228 v257 k0_t45) a + S1x1x1x16x128.size a ≤ S2x2x108x128x128.size a), (Rect.unit (s := S2x2x108x128x128) (k0_off1309 v1 k0_t34 v228 v257 k0_t45) S1x1x1x16x128.size hinb).PackedRows (EltTy.packing .bf16)) ∧
  (∀ k0_t45 : Fin (k0_t45_loop v228 v257).trips, ∀ a, (k0_off1310 v1 k0_t34 v228 v257 k0_t45) a + S1x1x1x32x128.size a ≤ S2x2x8x1728x128.size a) ∧
  (∀ k0_t45 : Fin (k0_t45_loop v228 v257).trips, ∀ a, (k0_off1312 v1 k0_t34 v228 v257 k0_t45) a + S1x1x1x16x128.size a ≤ S2x2x108x128x128.size a) ∧
  (∀ k0_t45 : Fin (k0_t45_loop v228 v257).trips, ∀ (hinb : ∀ a, (k0_off1312 v1 k0_t34 v228 v257 k0_t45) a + S1x1x1x16x128.size a ≤ S2x2x108x128x128.size a), (Rect.unit (s := S2x2x108x128x128) (k0_off1312 v1 k0_t34 v228 v257 k0_t45) S1x1x1x16x128.size hinb).PackedRows (EltTy.packing .bf16)) ∧
  (∀ k0_t45 : Fin (k0_t45_loop v228 v257).trips, ∀ a, (k0_off1314 v1 k0_t34 v228 v257 k0_t45) a + S1x1x1x16x128.size a ≤ S2x2x108x128x128.size a) ∧
  (∀ k0_t45 : Fin (k0_t45_loop v228 v257).trips, ∀ (hinb : ∀ a, (k0_off1314 v1 k0_t34 v228 v257 k0_t45) a + S1x1x1x16x128.size a ≤ S2x2x108x128x128.size a), (Rect.unit (s := S2x2x108x128x128) (k0_off1314 v1 k0_t34 v228 v257 k0_t45) S1x1x1x16x128.size hinb).PackedRows (EltTy.packing .bf16)) ∧
  (∀ k0_t45 : Fin (k0_t45_loop v228 v257).trips, ∀ a, (k0_off1315 v1 k0_t34 v228 v257 k0_t45) a + S1x1x1x32x128.size a ≤ S2x2x8x1728x128.size a) ∧
  (∀ k0_t45 : Fin (k0_t45_loop v228 v257).trips, ∀ a, (k0_off1317 v1 k0_t34 v228 v257 k0_t45) a + S1x1x1x16x128.size a ≤ S2x2x108x128x128.size a) ∧
  (∀ k0_t45 : Fin (k0_t45_loop v228 v257).trips, ∀ (hinb : ∀ a, (k0_off1317 v1 k0_t34 v228 v257 k0_t45) a + S1x1x1x16x128.size a ≤ S2x2x108x128x128.size a), (Rect.unit (s := S2x2x108x128x128) (k0_off1317 v1 k0_t34 v228 v257 k0_t45) S1x1x1x16x128.size hinb).PackedRows (EltTy.packing .bf16)) ∧
  (∀ k0_t45 : Fin (k0_t45_loop v228 v257).trips, ∀ a, (k0_off1319 v1 k0_t34 v228 v257 k0_t45) a + S1x1x1x16x128.size a ≤ S2x2x108x128x128.size a) ∧
  (∀ k0_t45 : Fin (k0_t45_loop v228 v257).trips, ∀ (hinb : ∀ a, (k0_off1319 v1 k0_t34 v228 v257 k0_t45) a + S1x1x1x16x128.size a ≤ S2x2x108x128x128.size a), (Rect.unit (s := S2x2x108x128x128) (k0_off1319 v1 k0_t34 v228 v257 k0_t45) S1x1x1x16x128.size hinb).PackedRows (EltTy.packing .bf16)) ∧
  (∀ k0_t45 : Fin (k0_t45_loop v228 v257).trips, ∀ a, (k0_off1320 v1 k0_t34 v228 v257 k0_t45) a + S1x1x1x32x128.size a ≤ S2x2x8x1728x128.size a) ∧
  (∀ k0_t45 : Fin (k0_t45_loop v228 v257).trips, ∀ a, (k0_off1322 v1 k0_t34 v228 v257 k0_t45) a + S1x1x1x16x128.size a ≤ S2x2x108x128x128.size a) ∧
  (∀ k0_t45 : Fin (k0_t45_loop v228 v257).trips, ∀ (hinb : ∀ a, (k0_off1322 v1 k0_t34 v228 v257 k0_t45) a + S1x1x1x16x128.size a ≤ S2x2x108x128x128.size a), (Rect.unit (s := S2x2x108x128x128) (k0_off1322 v1 k0_t34 v228 v257 k0_t45) S1x1x1x16x128.size hinb).PackedRows (EltTy.packing .bf16)) ∧
  (∀ k0_t45 : Fin (k0_t45_loop v228 v257).trips, ∀ a, (k0_off1324 v1 k0_t34 v228 v257 k0_t45) a + S1x1x1x16x128.size a ≤ S2x2x108x128x128.size a) ∧
  (∀ k0_t45 : Fin (k0_t45_loop v228 v257).trips, ∀ (hinb : ∀ a, (k0_off1324 v1 k0_t34 v228 v257 k0_t45) a + S1x1x1x16x128.size a ≤ S2x2x108x128x128.size a), (Rect.unit (s := S2x2x108x128x128) (k0_off1324 v1 k0_t34 v228 v257 k0_t45) S1x1x1x16x128.size hinb).PackedRows (EltTy.packing .bf16)) ∧
  (∀ k0_t45 : Fin (k0_t45_loop v228 v257).trips, ∀ a, (k0_off1325 v1 k0_t34 v228 v257 k0_t45) a + S1x1x1x32x128.size a ≤ S2x2x8x1728x128.size a) ∧
  (∀ k0_t45 : Fin (k0_t45_loop v228 v257).trips, ∀ a, (k0_off1327 v1 k0_t34 v228 v257 k0_t45) a + S1x1x1x16x128.size a ≤ S2x2x108x128x128.size a) ∧
  (∀ k0_t45 : Fin (k0_t45_loop v228 v257).trips, ∀ (hinb : ∀ a, (k0_off1327 v1 k0_t34 v228 v257 k0_t45) a + S1x1x1x16x128.size a ≤ S2x2x108x128x128.size a), (Rect.unit (s := S2x2x108x128x128) (k0_off1327 v1 k0_t34 v228 v257 k0_t45) S1x1x1x16x128.size hinb).PackedRows (EltTy.packing .bf16)) ∧
  (∀ k0_t45 : Fin (k0_t45_loop v228 v257).trips, ∀ a, (k0_off1329 v1 k0_t34 v228 v257 k0_t45) a + S1x1x1x16x128.size a ≤ S2x2x108x128x128.size a) ∧
  (∀ k0_t45 : Fin (k0_t45_loop v228 v257).trips, ∀ (hinb : ∀ a, (k0_off1329 v1 k0_t34 v228 v257 k0_t45) a + S1x1x1x16x128.size a ≤ S2x2x108x128x128.size a), (Rect.unit (s := S2x2x108x128x128) (k0_off1329 v1 k0_t34 v228 v257 k0_t45) S1x1x1x16x128.size hinb).PackedRows (EltTy.packing .bf16)) ∧
  (∀ k0_t45 : Fin (k0_t45_loop v228 v257).trips, ∀ a, (k0_off1330 v1 k0_t34 v228 v257 k0_t45) a + S1x1x1x32x128.size a ≤ S2x2x8x1728x128.size a) ∧
  (∀ k0_t45 : Fin (k0_t45_loop v228 v257).trips, ∀ a, (k0_off1332 v1 k0_t34 v228 v257 k0_t45) a + S1x1x1x16x128.size a ≤ S2x2x108x128x128.size a) ∧
  (∀ k0_t45 : Fin (k0_t45_loop v228 v257).trips, ∀ (hinb : ∀ a, (k0_off1332 v1 k0_t34 v228 v257 k0_t45) a + S1x1x1x16x128.size a ≤ S2x2x108x128x128.size a), (Rect.unit (s := S2x2x108x128x128) (k0_off1332 v1 k0_t34 v228 v257 k0_t45) S1x1x1x16x128.size hinb).PackedRows (EltTy.packing .bf16))
def k0_chk21_36 (v1 : BitVec 32) (k0_t34 : Fin (k0_t34_loop v1).trips) (v228 : BitVec 32) (v257 : BitVec 32) : Prop :=
  (∀ k0_t45 : Fin (k0_t45_loop v228 v257).trips, ∀ a, (k0_off1334 v1 k0_t34 v228 v257 k0_t45) a + S1x1x1x16x128.size a ≤ S2x2x108x128x128.size a) ∧
  (∀ k0_t45 : Fin (k0_t45_loop v228 v257).trips, ∀ (hinb : ∀ a, (k0_off1334 v1 k0_t34 v228 v257 k0_t45) a + S1x1x1x16x128.size a ≤ S2x2x108x128x128.size a), (Rect.unit (s := S2x2x108x128x128) (k0_off1334 v1 k0_t34 v228 v257 k0_t45) S1x1x1x16x128.size hinb).PackedRows (EltTy.packing .bf16)) ∧
  (∀ k0_t45 : Fin (k0_t45_loop v228 v257).trips, ∀ a, (k0_off1335 v1 k0_t34 v228 v257 k0_t45) a + S1x1x1x32x128.size a ≤ S2x2x8x1728x128.size a) ∧
  (∀ k0_t45 : Fin (k0_t45_loop v228 v257).trips, ∀ a, (k0_off1337 v1 k0_t34 v228 v257 k0_t45) a + S1x1x1x16x128.size a ≤ S2x2x108x128x128.size a) ∧
  (∀ k0_t45 : Fin (k0_t45_loop v228 v257).trips, ∀ (hinb : ∀ a, (k0_off1337 v1 k0_t34 v228 v257 k0_t45) a + S1x1x1x16x128.size a ≤ S2x2x108x128x128.size a), (Rect.unit (s := S2x2x108x128x128) (k0_off1337 v1 k0_t34 v228 v257 k0_t45) S1x1x1x16x128.size hinb).PackedRows (EltTy.packing .bf16)) ∧
  (∀ k0_t45 : Fin (k0_t45_loop v228 v257).trips, ∀ a, (k0_off1339 v1 k0_t34 v228 v257 k0_t45) a + S1x1x1x16x128.size a ≤ S2x2x108x128x128.size a) ∧
  (∀ k0_t45 : Fin (k0_t45_loop v228 v257).trips, ∀ (hinb : ∀ a, (k0_off1339 v1 k0_t34 v228 v257 k0_t45) a + S1x1x1x16x128.size a ≤ S2x2x108x128x128.size a), (Rect.unit (s := S2x2x108x128x128) (k0_off1339 v1 k0_t34 v228 v257 k0_t45) S1x1x1x16x128.size hinb).PackedRows (EltTy.packing .bf16)) ∧
  (∀ k0_t45 : Fin (k0_t45_loop v228 v257).trips, ∀ a, (k0_off1340 v1 k0_t34 v228 v257 k0_t45) a + S1x1x1x32x128.size a ≤ S2x2x8x1728x128.size a) ∧
  (∀ k0_t45 : Fin (k0_t45_loop v228 v257).trips, ∀ a, (k0_off1342 v1 k0_t34 v228 v257 k0_t45) a + S1x1x1x16x128.size a ≤ S2x2x108x128x128.size a) ∧
  (∀ k0_t45 : Fin (k0_t45_loop v228 v257).trips, ∀ (hinb : ∀ a, (k0_off1342 v1 k0_t34 v228 v257 k0_t45) a + S1x1x1x16x128.size a ≤ S2x2x108x128x128.size a), (Rect.unit (s := S2x2x108x128x128) (k0_off1342 v1 k0_t34 v228 v257 k0_t45) S1x1x1x16x128.size hinb).PackedRows (EltTy.packing .bf16)) ∧
  (∀ k0_t45 : Fin (k0_t45_loop v228 v257).trips, ∀ a, (k0_off1344 v1 k0_t34 v228 v257 k0_t45) a + S1x1x1x16x128.size a ≤ S2x2x108x128x128.size a) ∧
  (∀ k0_t45 : Fin (k0_t45_loop v228 v257).trips, ∀ (hinb : ∀ a, (k0_off1344 v1 k0_t34 v228 v257 k0_t45) a + S1x1x1x16x128.size a ≤ S2x2x108x128x128.size a), (Rect.unit (s := S2x2x108x128x128) (k0_off1344 v1 k0_t34 v228 v257 k0_t45) S1x1x1x16x128.size hinb).PackedRows (EltTy.packing .bf16)) ∧
  (∀ k0_t45 : Fin (k0_t45_loop v228 v257).trips, ∀ a, (k0_off1345 v1 k0_t34 v228 v257 k0_t45) a + S1x1x1x32x128.size a ≤ S2x2x8x1728x128.size a) ∧
  (∀ k0_t45 : Fin (k0_t45_loop v228 v257).trips, ∀ a, (k0_off1347 v1 k0_t34 v228 v257 k0_t45) a + S1x1x1x16x128.size a ≤ S2x2x108x128x128.size a) ∧
  (∀ k0_t45 : Fin (k0_t45_loop v228 v257).trips, ∀ (hinb : ∀ a, (k0_off1347 v1 k0_t34 v228 v257 k0_t45) a + S1x1x1x16x128.size a ≤ S2x2x108x128x128.size a), (Rect.unit (s := S2x2x108x128x128) (k0_off1347 v1 k0_t34 v228 v257 k0_t45) S1x1x1x16x128.size hinb).PackedRows (EltTy.packing .bf16)) ∧
  (∀ k0_t45 : Fin (k0_t45_loop v228 v257).trips, ∀ a, (k0_off1349 v1 k0_t34 v228 v257 k0_t45) a + S1x1x1x16x128.size a ≤ S2x2x108x128x128.size a) ∧
  (∀ k0_t45 : Fin (k0_t45_loop v228 v257).trips, ∀ (hinb : ∀ a, (k0_off1349 v1 k0_t34 v228 v257 k0_t45) a + S1x1x1x16x128.size a ≤ S2x2x108x128x128.size a), (Rect.unit (s := S2x2x108x128x128) (k0_off1349 v1 k0_t34 v228 v257 k0_t45) S1x1x1x16x128.size hinb).PackedRows (EltTy.packing .bf16)) ∧
  (∀ k0_t45 : Fin (k0_t45_loop v228 v257).trips, ∀ a, (k0_off1350 v1 k0_t34 v228 v257 k0_t45) a + S1x1x1x32x128.size a ≤ S2x2x8x1728x128.size a) ∧
  (∀ k0_t45 : Fin (k0_t45_loop v228 v257).trips, ∀ a, (k0_off1352 v1 k0_t34 v228 v257 k0_t45) a + S1x1x1x16x128.size a ≤ S2x2x108x128x128.size a) ∧
  (∀ k0_t45 : Fin (k0_t45_loop v228 v257).trips, ∀ (hinb : ∀ a, (k0_off1352 v1 k0_t34 v228 v257 k0_t45) a + S1x1x1x16x128.size a ≤ S2x2x108x128x128.size a), (Rect.unit (s := S2x2x108x128x128) (k0_off1352 v1 k0_t34 v228 v257 k0_t45) S1x1x1x16x128.size hinb).PackedRows (EltTy.packing .bf16)) ∧
  (∀ k0_t45 : Fin (k0_t45_loop v228 v257).trips, ∀ a, (k0_off1354 v1 k0_t34 v228 v257 k0_t45) a + S1x1x1x16x128.size a ≤ S2x2x108x128x128.size a) ∧
  (∀ k0_t45 : Fin (k0_t45_loop v228 v257).trips, ∀ (hinb : ∀ a, (k0_off1354 v1 k0_t34 v228 v257 k0_t45) a + S1x1x1x16x128.size a ≤ S2x2x108x128x128.size a), (Rect.unit (s := S2x2x108x128x128) (k0_off1354 v1 k0_t34 v228 v257 k0_t45) S1x1x1x16x128.size hinb).PackedRows (EltTy.packing .bf16)) ∧
  (∀ k0_t45 : Fin (k0_t45_loop v228 v257).trips, ∀ a, (k0_off1355 v1 k0_t34 v228 v257 k0_t45) a + S1x1x1x32x128.size a ≤ S2x2x8x1728x128.size a) ∧
  (∀ k0_t45 : Fin (k0_t45_loop v228 v257).trips, ∀ a, (k0_off1357 v1 k0_t34 v228 v257 k0_t45) a + S1x1x1x16x128.size a ≤ S2x2x108x128x128.size a) ∧
  (∀ k0_t45 : Fin (k0_t45_loop v228 v257).trips, ∀ (hinb : ∀ a, (k0_off1357 v1 k0_t34 v228 v257 k0_t45) a + S1x1x1x16x128.size a ≤ S2x2x108x128x128.size a), (Rect.unit (s := S2x2x108x128x128) (k0_off1357 v1 k0_t34 v228 v257 k0_t45) S1x1x1x16x128.size hinb).PackedRows (EltTy.packing .bf16)) ∧
  (∀ k0_t45 : Fin (k0_t45_loop v228 v257).trips, ∀ a, (k0_off1359 v1 k0_t34 v228 v257 k0_t45) a + S1x1x1x16x128.size a ≤ S2x2x108x128x128.size a) ∧
  (∀ k0_t45 : Fin (k0_t45_loop v228 v257).trips, ∀ (hinb : ∀ a, (k0_off1359 v1 k0_t34 v228 v257 k0_t45) a + S1x1x1x16x128.size a ≤ S2x2x108x128x128.size a), (Rect.unit (s := S2x2x108x128x128) (k0_off1359 v1 k0_t34 v228 v257 k0_t45) S1x1x1x16x128.size hinb).PackedRows (EltTy.packing .bf16)) ∧
  (∀ k0_t45 : Fin (k0_t45_loop v228 v257).trips, ∀ a, (k0_off1360 v1 k0_t34 v228 v257 k0_t45) a + S1x1x1x32x128.size a ≤ S2x2x8x1728x128.size a) ∧
  (∀ k0_t45 : Fin (k0_t45_loop v228 v257).trips, ∀ a, (k0_off1362 v1 k0_t34 v228 v257 k0_t45) a + S1x1x1x16x128.size a ≤ S2x2x108x128x128.size a) ∧
  (∀ k0_t45 : Fin (k0_t45_loop v228 v257).trips, ∀ (hinb : ∀ a, (k0_off1362 v1 k0_t34 v228 v257 k0_t45) a + S1x1x1x16x128.size a ≤ S2x2x108x128x128.size a), (Rect.unit (s := S2x2x108x128x128) (k0_off1362 v1 k0_t34 v228 v257 k0_t45) S1x1x1x16x128.size hinb).PackedRows (EltTy.packing .bf16)) ∧
  (∀ k0_t45 : Fin (k0_t45_loop v228 v257).trips, ∀ a, (k0_off1364 v1 k0_t34 v228 v257 k0_t45) a + S1x1x1x16x128.size a ≤ S2x2x108x128x128.size a) ∧
  (∀ k0_t45 : Fin (k0_t45_loop v228 v257).trips, ∀ (hinb : ∀ a, (k0_off1364 v1 k0_t34 v228 v257 k0_t45) a + S1x1x1x16x128.size a ≤ S2x2x108x128x128.size a), (Rect.unit (s := S2x2x108x128x128) (k0_off1364 v1 k0_t34 v228 v257 k0_t45) S1x1x1x16x128.size hinb).PackedRows (EltTy.packing .bf16))
def k0_chk21_37 (v1 : BitVec 32) (k0_t34 : Fin (k0_t34_loop v1).trips) (v228 : BitVec 32) (v257 : BitVec 32) : Prop :=
  (∀ k0_t45 : Fin (k0_t45_loop v228 v257).trips, ∀ a, (k0_off1365 v1 k0_t34 v228 v257 k0_t45) a + S1x1x1x32x128.size a ≤ S2x2x8x1728x128.size a) ∧
  (∀ k0_t45 : Fin (k0_t45_loop v228 v257).trips, ∀ a, (k0_off1367 v1 k0_t34 v228 v257 k0_t45) a + S1x1x1x16x128.size a ≤ S2x2x108x128x128.size a) ∧
  (∀ k0_t45 : Fin (k0_t45_loop v228 v257).trips, ∀ (hinb : ∀ a, (k0_off1367 v1 k0_t34 v228 v257 k0_t45) a + S1x1x1x16x128.size a ≤ S2x2x108x128x128.size a), (Rect.unit (s := S2x2x108x128x128) (k0_off1367 v1 k0_t34 v228 v257 k0_t45) S1x1x1x16x128.size hinb).PackedRows (EltTy.packing .bf16)) ∧
  (∀ k0_t45 : Fin (k0_t45_loop v228 v257).trips, ∀ a, (k0_off1369 v1 k0_t34 v228 v257 k0_t45) a + S1x1x1x16x128.size a ≤ S2x2x108x128x128.size a) ∧
  (∀ k0_t45 : Fin (k0_t45_loop v228 v257).trips, ∀ (hinb : ∀ a, (k0_off1369 v1 k0_t34 v228 v257 k0_t45) a + S1x1x1x16x128.size a ≤ S2x2x108x128x128.size a), (Rect.unit (s := S2x2x108x128x128) (k0_off1369 v1 k0_t34 v228 v257 k0_t45) S1x1x1x16x128.size hinb).PackedRows (EltTy.packing .bf16)) ∧
  (∀ k0_t45 : Fin (k0_t45_loop v228 v257).trips, ∀ a, (k0_off1370 v1 k0_t34 v228 v257 k0_t45) a + S1x1x1x32x128.size a ≤ S2x2x8x1728x128.size a) ∧
  (∀ k0_t45 : Fin (k0_t45_loop v228 v257).trips, ∀ a, (k0_off1372 v1 k0_t34 v228 v257 k0_t45) a + S1x1x1x16x128.size a ≤ S2x2x108x128x128.size a) ∧
  (∀ k0_t45 : Fin (k0_t45_loop v228 v257).trips, ∀ (hinb : ∀ a, (k0_off1372 v1 k0_t34 v228 v257 k0_t45) a + S1x1x1x16x128.size a ≤ S2x2x108x128x128.size a), (Rect.unit (s := S2x2x108x128x128) (k0_off1372 v1 k0_t34 v228 v257 k0_t45) S1x1x1x16x128.size hinb).PackedRows (EltTy.packing .bf16)) ∧
  (∀ k0_t45 : Fin (k0_t45_loop v228 v257).trips, ∀ a, (k0_off1374 v1 k0_t34 v228 v257 k0_t45) a + S1x1x1x16x128.size a ≤ S2x2x108x128x128.size a) ∧
  (∀ k0_t45 : Fin (k0_t45_loop v228 v257).trips, ∀ (hinb : ∀ a, (k0_off1374 v1 k0_t34 v228 v257 k0_t45) a + S1x1x1x16x128.size a ≤ S2x2x108x128x128.size a), (Rect.unit (s := S2x2x108x128x128) (k0_off1374 v1 k0_t34 v228 v257 k0_t45) S1x1x1x16x128.size hinb).PackedRows (EltTy.packing .bf16)) ∧
  (∀ k0_t45 : Fin (k0_t45_loop v228 v257).trips, ∀ a, (k0_off1375 v1 k0_t34 v228 v257 k0_t45) a + S1x1x1x32x128.size a ≤ S2x2x8x1728x128.size a) ∧
  (∀ k0_t45 : Fin (k0_t45_loop v228 v257).trips, ∀ a, (k0_off1377 v1 k0_t34 v228 v257 k0_t45) a + S1x1x1x16x128.size a ≤ S2x2x108x128x128.size a) ∧
  (∀ k0_t45 : Fin (k0_t45_loop v228 v257).trips, ∀ (hinb : ∀ a, (k0_off1377 v1 k0_t34 v228 v257 k0_t45) a + S1x1x1x16x128.size a ≤ S2x2x108x128x128.size a), (Rect.unit (s := S2x2x108x128x128) (k0_off1377 v1 k0_t34 v228 v257 k0_t45) S1x1x1x16x128.size hinb).PackedRows (EltTy.packing .bf16)) ∧
  (∀ k0_t45 : Fin (k0_t45_loop v228 v257).trips, ∀ a, (k0_off1379 v1 k0_t34 v228 v257 k0_t45) a + S1x1x1x16x128.size a ≤ S2x2x108x128x128.size a) ∧
  (∀ k0_t45 : Fin (k0_t45_loop v228 v257).trips, ∀ (hinb : ∀ a, (k0_off1379 v1 k0_t34 v228 v257 k0_t45) a + S1x1x1x16x128.size a ≤ S2x2x108x128x128.size a), (Rect.unit (s := S2x2x108x128x128) (k0_off1379 v1 k0_t34 v228 v257 k0_t45) S1x1x1x16x128.size hinb).PackedRows (EltTy.packing .bf16)) ∧
  (∀ k0_t45 : Fin (k0_t45_loop v228 v257).trips, ∀ a, (k0_off1380 v1 k0_t34 v228 v257 k0_t45) a + S1x1x1x32x128.size a ≤ S2x2x8x1728x128.size a) ∧
  (∀ k0_t45 : Fin (k0_t45_loop v228 v257).trips, ∀ a, (k0_off1382 v1 k0_t34 v228 v257 k0_t45) a + S1x1x1x16x128.size a ≤ S2x2x108x128x128.size a) ∧
  (∀ k0_t45 : Fin (k0_t45_loop v228 v257).trips, ∀ (hinb : ∀ a, (k0_off1382 v1 k0_t34 v228 v257 k0_t45) a + S1x1x1x16x128.size a ≤ S2x2x108x128x128.size a), (Rect.unit (s := S2x2x108x128x128) (k0_off1382 v1 k0_t34 v228 v257 k0_t45) S1x1x1x16x128.size hinb).PackedRows (EltTy.packing .bf16)) ∧
  (∀ k0_t45 : Fin (k0_t45_loop v228 v257).trips, ∀ a, (k0_off1384 v1 k0_t34 v228 v257 k0_t45) a + S1x1x1x16x128.size a ≤ S2x2x108x128x128.size a) ∧
  (∀ k0_t45 : Fin (k0_t45_loop v228 v257).trips, ∀ (hinb : ∀ a, (k0_off1384 v1 k0_t34 v228 v257 k0_t45) a + S1x1x1x16x128.size a ≤ S2x2x108x128x128.size a), (Rect.unit (s := S2x2x108x128x128) (k0_off1384 v1 k0_t34 v228 v257 k0_t45) S1x1x1x16x128.size hinb).PackedRows (EltTy.packing .bf16)) ∧
  (∀ k0_t45 : Fin (k0_t45_loop v228 v257).trips, ∀ a, (k0_off1385 v1 k0_t34 v228 v257 k0_t45) a + S1x1x1x32x128.size a ≤ S2x2x8x1728x128.size a) ∧
  (∀ k0_t45 : Fin (k0_t45_loop v228 v257).trips, ∀ a, (k0_off1387 v1 k0_t34 v228 v257 k0_t45) a + S1x1x1x16x128.size a ≤ S2x2x108x128x128.size a) ∧
  (∀ k0_t45 : Fin (k0_t45_loop v228 v257).trips, ∀ (hinb : ∀ a, (k0_off1387 v1 k0_t34 v228 v257 k0_t45) a + S1x1x1x16x128.size a ≤ S2x2x108x128x128.size a), (Rect.unit (s := S2x2x108x128x128) (k0_off1387 v1 k0_t34 v228 v257 k0_t45) S1x1x1x16x128.size hinb).PackedRows (EltTy.packing .bf16)) ∧
  (∀ k0_t45 : Fin (k0_t45_loop v228 v257).trips, ∀ a, (k0_off1389 v1 k0_t34 v228 v257 k0_t45) a + S1x1x1x16x128.size a ≤ S2x2x108x128x128.size a) ∧
  (∀ k0_t45 : Fin (k0_t45_loop v228 v257).trips, ∀ (hinb : ∀ a, (k0_off1389 v1 k0_t34 v228 v257 k0_t45) a + S1x1x1x16x128.size a ≤ S2x2x108x128x128.size a), (Rect.unit (s := S2x2x108x128x128) (k0_off1389 v1 k0_t34 v228 v257 k0_t45) S1x1x1x16x128.size hinb).PackedRows (EltTy.packing .bf16)) ∧
  (∀ k0_t45 : Fin (k0_t45_loop v228 v257).trips, ∀ a, (k0_off1390 v1 k0_t34 v228 v257 k0_t45) a + S1x1x1x32x128.size a ≤ S2x2x8x1728x128.size a) ∧
  (∀ k0_t45 : Fin (k0_t45_loop v228 v257).trips, ∀ a, (k0_off1392 v1 k0_t34 v228 v257 k0_t45) a + S1x1x1x16x128.size a ≤ S2x2x108x128x128.size a) ∧
  (∀ k0_t45 : Fin (k0_t45_loop v228 v257).trips, ∀ (hinb : ∀ a, (k0_off1392 v1 k0_t34 v228 v257 k0_t45) a + S1x1x1x16x128.size a ≤ S2x2x108x128x128.size a), (Rect.unit (s := S2x2x108x128x128) (k0_off1392 v1 k0_t34 v228 v257 k0_t45) S1x1x1x16x128.size hinb).PackedRows (EltTy.packing .bf16)) ∧
  (∀ k0_t45 : Fin (k0_t45_loop v228 v257).trips, ∀ a, (k0_off1394 v1 k0_t34 v228 v257 k0_t45) a + S1x1x1x16x128.size a ≤ S2x2x108x128x128.size a) ∧
  (∀ k0_t45 : Fin (k0_t45_loop v228 v257).trips, ∀ (hinb : ∀ a, (k0_off1394 v1 k0_t34 v228 v257 k0_t45) a + S1x1x1x16x128.size a ≤ S2x2x108x128x128.size a), (Rect.unit (s := S2x2x108x128x128) (k0_off1394 v1 k0_t34 v228 v257 k0_t45) S1x1x1x16x128.size hinb).PackedRows (EltTy.packing .bf16)) ∧
  (∀ k0_t45 : Fin (k0_t45_loop v228 v257).trips, ∀ a, (k0_off1395 v1 k0_t34 v228 v257 k0_t45) a + S1x1x1x32x128.size a ≤ S2x2x8x1728x128.size a) ∧
  (∀ k0_t45 : Fin (k0_t45_loop v228 v257).trips, ∀ a, (k0_off1397 v1 k0_t34 v228 v257 k0_t45) a + S1x1x1x16x128.size a ≤ S2x2x108x128x128.size a)
def k0_chk21_38 (v1 : BitVec 32) (k0_t34 : Fin (k0_t34_loop v1).trips) (v228 : BitVec 32) (v257 : BitVec 32) : Prop :=
  (∀ k0_t45 : Fin (k0_t45_loop v228 v257).trips, ∀ (hinb : ∀ a, (k0_off1397 v1 k0_t34 v228 v257 k0_t45) a + S1x1x1x16x128.size a ≤ S2x2x108x128x128.size a), (Rect.unit (s := S2x2x108x128x128) (k0_off1397 v1 k0_t34 v228 v257 k0_t45) S1x1x1x16x128.size hinb).PackedRows (EltTy.packing .bf16)) ∧
  (∀ k0_t45 : Fin (k0_t45_loop v228 v257).trips, ∀ a, (k0_off1399 v1 k0_t34 v228 v257 k0_t45) a + S1x1x1x16x128.size a ≤ S2x2x108x128x128.size a) ∧
  (∀ k0_t45 : Fin (k0_t45_loop v228 v257).trips, ∀ (hinb : ∀ a, (k0_off1399 v1 k0_t34 v228 v257 k0_t45) a + S1x1x1x16x128.size a ≤ S2x2x108x128x128.size a), (Rect.unit (s := S2x2x108x128x128) (k0_off1399 v1 k0_t34 v228 v257 k0_t45) S1x1x1x16x128.size hinb).PackedRows (EltTy.packing .bf16)) ∧
  (∀ k0_t45 : Fin (k0_t45_loop v228 v257).trips, ∀ a, (k0_off1400 v1 k0_t34 v228 v257 k0_t45) a + S1x1x1x32x128.size a ≤ S2x2x8x1728x128.size a) ∧
  (∀ k0_t45 : Fin (k0_t45_loop v228 v257).trips, ∀ a, (k0_off1402 v1 k0_t34 v228 v257 k0_t45) a + S1x1x1x16x128.size a ≤ S2x2x108x128x128.size a) ∧
  (∀ k0_t45 : Fin (k0_t45_loop v228 v257).trips, ∀ (hinb : ∀ a, (k0_off1402 v1 k0_t34 v228 v257 k0_t45) a + S1x1x1x16x128.size a ≤ S2x2x108x128x128.size a), (Rect.unit (s := S2x2x108x128x128) (k0_off1402 v1 k0_t34 v228 v257 k0_t45) S1x1x1x16x128.size hinb).PackedRows (EltTy.packing .bf16)) ∧
  (∀ k0_t45 : Fin (k0_t45_loop v228 v257).trips, ∀ a, (k0_off1404 v1 k0_t34 v228 v257 k0_t45) a + S1x1x1x16x128.size a ≤ S2x2x108x128x128.size a) ∧
  (∀ k0_t45 : Fin (k0_t45_loop v228 v257).trips, ∀ (hinb : ∀ a, (k0_off1404 v1 k0_t34 v228 v257 k0_t45) a + S1x1x1x16x128.size a ≤ S2x2x108x128x128.size a), (Rect.unit (s := S2x2x108x128x128) (k0_off1404 v1 k0_t34 v228 v257 k0_t45) S1x1x1x16x128.size hinb).PackedRows (EltTy.packing .bf16)) ∧
  (∀ k0_t45 : Fin (k0_t45_loop v228 v257).trips, ∀ a, (k0_off1405 v1 k0_t34 v228 v257 k0_t45) a + S1x1x1x32x128.size a ≤ S2x2x8x1728x128.size a) ∧
  (∀ k0_t45 : Fin (k0_t45_loop v228 v257).trips, ∀ a, (k0_off1407 v1 k0_t34 v228 v257 k0_t45) a + S1x1x1x16x128.size a ≤ S2x2x108x128x128.size a) ∧
  (∀ k0_t45 : Fin (k0_t45_loop v228 v257).trips, ∀ (hinb : ∀ a, (k0_off1407 v1 k0_t34 v228 v257 k0_t45) a + S1x1x1x16x128.size a ≤ S2x2x108x128x128.size a), (Rect.unit (s := S2x2x108x128x128) (k0_off1407 v1 k0_t34 v228 v257 k0_t45) S1x1x1x16x128.size hinb).PackedRows (EltTy.packing .bf16)) ∧
  (∀ k0_t45 : Fin (k0_t45_loop v228 v257).trips, ∀ a, (k0_off1409 v1 k0_t34 v228 v257 k0_t45) a + S1x1x1x16x128.size a ≤ S2x2x108x128x128.size a) ∧
  (∀ k0_t45 : Fin (k0_t45_loop v228 v257).trips, ∀ (hinb : ∀ a, (k0_off1409 v1 k0_t34 v228 v257 k0_t45) a + S1x1x1x16x128.size a ≤ S2x2x108x128x128.size a), (Rect.unit (s := S2x2x108x128x128) (k0_off1409 v1 k0_t34 v228 v257 k0_t45) S1x1x1x16x128.size hinb).PackedRows (EltTy.packing .bf16)) ∧
  (∀ k0_t45 : Fin (k0_t45_loop v228 v257).trips, ∀ a, (k0_off1410 v1 k0_t34 v228 v257 k0_t45) a + S1x1x1x32x128.size a ≤ S2x2x8x1728x128.size a) ∧
  (∀ k0_t45 : Fin (k0_t45_loop v228 v257).trips, ∀ a, (k0_off1412 v1 k0_t34 v228 v257 k0_t45) a + S1x1x1x16x128.size a ≤ S2x2x108x128x128.size a) ∧
  (∀ k0_t45 : Fin (k0_t45_loop v228 v257).trips, ∀ (hinb : ∀ a, (k0_off1412 v1 k0_t34 v228 v257 k0_t45) a + S1x1x1x16x128.size a ≤ S2x2x108x128x128.size a), (Rect.unit (s := S2x2x108x128x128) (k0_off1412 v1 k0_t34 v228 v257 k0_t45) S1x1x1x16x128.size hinb).PackedRows (EltTy.packing .bf16)) ∧
  (∀ k0_t45 : Fin (k0_t45_loop v228 v257).trips, ∀ a, (k0_off1414 v1 k0_t34 v228 v257 k0_t45) a + S1x1x1x16x128.size a ≤ S2x2x108x128x128.size a) ∧
  (∀ k0_t45 : Fin (k0_t45_loop v228 v257).trips, ∀ (hinb : ∀ a, (k0_off1414 v1 k0_t34 v228 v257 k0_t45) a + S1x1x1x16x128.size a ≤ S2x2x108x128x128.size a), (Rect.unit (s := S2x2x108x128x128) (k0_off1414 v1 k0_t34 v228 v257 k0_t45) S1x1x1x16x128.size hinb).PackedRows (EltTy.packing .bf16)) ∧
  (∀ k0_t45 : Fin (k0_t45_loop v228 v257).trips, ∀ a, (k0_off1415 v1 k0_t34 v228 v257 k0_t45) a + S1x1x1x32x128.size a ≤ S2x2x8x1728x128.size a) ∧
  (∀ k0_t45 : Fin (k0_t45_loop v228 v257).trips, ∀ a, (k0_off1417 v1 k0_t34 v228 v257 k0_t45) a + S1x1x1x16x128.size a ≤ S2x2x108x128x128.size a) ∧
  (∀ k0_t45 : Fin (k0_t45_loop v228 v257).trips, ∀ (hinb : ∀ a, (k0_off1417 v1 k0_t34 v228 v257 k0_t45) a + S1x1x1x16x128.size a ≤ S2x2x108x128x128.size a), (Rect.unit (s := S2x2x108x128x128) (k0_off1417 v1 k0_t34 v228 v257 k0_t45) S1x1x1x16x128.size hinb).PackedRows (EltTy.packing .bf16)) ∧
  (∀ k0_t45 : Fin (k0_t45_loop v228 v257).trips, ∀ a, (k0_off1419 v1 k0_t34 v228 v257 k0_t45) a + S1x1x1x16x128.size a ≤ S2x2x108x128x128.size a) ∧
  (∀ k0_t45 : Fin (k0_t45_loop v228 v257).trips, ∀ (hinb : ∀ a, (k0_off1419 v1 k0_t34 v228 v257 k0_t45) a + S1x1x1x16x128.size a ≤ S2x2x108x128x128.size a), (Rect.unit (s := S2x2x108x128x128) (k0_off1419 v1 k0_t34 v228 v257 k0_t45) S1x1x1x16x128.size hinb).PackedRows (EltTy.packing .bf16)) ∧
  (∀ k0_t45 : Fin (k0_t45_loop v228 v257).trips, ∀ a, (k0_off1420 v1 k0_t34 v228 v257 k0_t45) a + S1x1x1x32x128.size a ≤ S2x2x8x1728x128.size a) ∧
  (∀ k0_t45 : Fin (k0_t45_loop v228 v257).trips, ∀ a, (k0_off1422 v1 k0_t34 v228 v257 k0_t45) a + S1x1x1x16x128.size a ≤ S2x2x108x128x128.size a) ∧
  (∀ k0_t45 : Fin (k0_t45_loop v228 v257).trips, ∀ (hinb : ∀ a, (k0_off1422 v1 k0_t34 v228 v257 k0_t45) a + S1x1x1x16x128.size a ≤ S2x2x108x128x128.size a), (Rect.unit (s := S2x2x108x128x128) (k0_off1422 v1 k0_t34 v228 v257 k0_t45) S1x1x1x16x128.size hinb).PackedRows (EltTy.packing .bf16)) ∧
  (∀ k0_t45 : Fin (k0_t45_loop v228 v257).trips, ∀ a, (k0_off1424 v1 k0_t34 v228 v257 k0_t45) a + S1x1x1x16x128.size a ≤ S2x2x108x128x128.size a) ∧
  (∀ k0_t45 : Fin (k0_t45_loop v228 v257).trips, ∀ (hinb : ∀ a, (k0_off1424 v1 k0_t34 v228 v257 k0_t45) a + S1x1x1x16x128.size a ≤ S2x2x108x128x128.size a), (Rect.unit (s := S2x2x108x128x128) (k0_off1424 v1 k0_t34 v228 v257 k0_t45) S1x1x1x16x128.size hinb).PackedRows (EltTy.packing .bf16)) ∧
  (∀ k0_t45 : Fin (k0_t45_loop v228 v257).trips, ∀ a, (k0_off1425 v1 k0_t34 v228 v257 k0_t45) a + S1x1x1x32x128.size a ≤ S2x2x8x1728x128.size a) ∧
  (∀ k0_t45 : Fin (k0_t45_loop v228 v257).trips, ∀ a, (k0_off1427 v1 k0_t34 v228 v257 k0_t45) a + S1x1x1x16x128.size a ≤ S2x2x108x128x128.size a) ∧
  (∀ k0_t45 : Fin (k0_t45_loop v228 v257).trips, ∀ (hinb : ∀ a, (k0_off1427 v1 k0_t34 v228 v257 k0_t45) a + S1x1x1x16x128.size a ≤ S2x2x108x128x128.size a), (Rect.unit (s := S2x2x108x128x128) (k0_off1427 v1 k0_t34 v228 v257 k0_t45) S1x1x1x16x128.size hinb).PackedRows (EltTy.packing .bf16)) ∧
  (∀ k0_t45 : Fin (k0_t45_loop v228 v257).trips, ∀ a, (k0_off1429 v1 k0_t34 v228 v257 k0_t45) a + S1x1x1x16x128.size a ≤ S2x2x108x128x128.size a)
def k0_chk21_39 (v1 : BitVec 32) (k0_t34 : Fin (k0_t34_loop v1).trips) (v228 : BitVec 32) (v257 : BitVec 32) : Prop :=
  (∀ k0_t45 : Fin (k0_t45_loop v228 v257).trips, ∀ (hinb : ∀ a, (k0_off1429 v1 k0_t34 v228 v257 k0_t45) a + S1x1x1x16x128.size a ≤ S2x2x108x128x128.size a), (Rect.unit (s := S2x2x108x128x128) (k0_off1429 v1 k0_t34 v228 v257 k0_t45) S1x1x1x16x128.size hinb).PackedRows (EltTy.packing .bf16)) ∧
  (∀ k0_t45 : Fin (k0_t45_loop v228 v257).trips, ∀ a, (k0_off1430 v1 k0_t34 v228 v257 k0_t45) a + S1x1x1x32x128.size a ≤ S2x2x8x1728x128.size a) ∧
  (∀ k0_t45 : Fin (k0_t45_loop v228 v257).trips, ∀ a, (k0_off1432 v1 k0_t34 v228 v257 k0_t45) a + S1x1x1x16x128.size a ≤ S2x2x108x128x128.size a) ∧
  (∀ k0_t45 : Fin (k0_t45_loop v228 v257).trips, ∀ (hinb : ∀ a, (k0_off1432 v1 k0_t34 v228 v257 k0_t45) a + S1x1x1x16x128.size a ≤ S2x2x108x128x128.size a), (Rect.unit (s := S2x2x108x128x128) (k0_off1432 v1 k0_t34 v228 v257 k0_t45) S1x1x1x16x128.size hinb).PackedRows (EltTy.packing .bf16)) ∧
  (∀ k0_t45 : Fin (k0_t45_loop v228 v257).trips, ∀ a, (k0_off1434 v1 k0_t34 v228 v257 k0_t45) a + S1x1x1x16x128.size a ≤ S2x2x108x128x128.size a) ∧
  (∀ k0_t45 : Fin (k0_t45_loop v228 v257).trips, ∀ (hinb : ∀ a, (k0_off1434 v1 k0_t34 v228 v257 k0_t45) a + S1x1x1x16x128.size a ≤ S2x2x108x128x128.size a), (Rect.unit (s := S2x2x108x128x128) (k0_off1434 v1 k0_t34 v228 v257 k0_t45) S1x1x1x16x128.size hinb).PackedRows (EltTy.packing .bf16)) ∧
  (∀ k0_t45 : Fin (k0_t45_loop v228 v257).trips, ∀ a, (k0_off1435 v1 k0_t34 v228 v257 k0_t45) a + S1x1x1x32x128.size a ≤ S2x2x8x1728x128.size a) ∧
  (∀ k0_t45 : Fin (k0_t45_loop v228 v257).trips, ∀ a, (k0_off1437 v1 k0_t34 v228 v257 k0_t45) a + S1x1x1x16x128.size a ≤ S2x2x108x128x128.size a) ∧
  (∀ k0_t45 : Fin (k0_t45_loop v228 v257).trips, ∀ (hinb : ∀ a, (k0_off1437 v1 k0_t34 v228 v257 k0_t45) a + S1x1x1x16x128.size a ≤ S2x2x108x128x128.size a), (Rect.unit (s := S2x2x108x128x128) (k0_off1437 v1 k0_t34 v228 v257 k0_t45) S1x1x1x16x128.size hinb).PackedRows (EltTy.packing .bf16)) ∧
  (∀ k0_t45 : Fin (k0_t45_loop v228 v257).trips, ∀ a, (k0_off1439 v1 k0_t34 v228 v257 k0_t45) a + S1x1x1x16x128.size a ≤ S2x2x108x128x128.size a) ∧
  (∀ k0_t45 : Fin (k0_t45_loop v228 v257).trips, ∀ (hinb : ∀ a, (k0_off1439 v1 k0_t34 v228 v257 k0_t45) a + S1x1x1x16x128.size a ≤ S2x2x108x128x128.size a), (Rect.unit (s := S2x2x108x128x128) (k0_off1439 v1 k0_t34 v228 v257 k0_t45) S1x1x1x16x128.size hinb).PackedRows (EltTy.packing .bf16)) ∧
  (∀ k0_t45 : Fin (k0_t45_loop v228 v257).trips, ∀ a, (k0_off1440 v1 k0_t34 v228 v257 k0_t45) a + S1x1x1x32x128.size a ≤ S2x2x8x1728x128.size a) ∧
  (∀ k0_t45 : Fin (k0_t45_loop v228 v257).trips, ∀ a, (k0_off1442 v1 k0_t34 v228 v257 k0_t45) a + S1x1x1x16x128.size a ≤ S2x2x108x128x128.size a) ∧
  (∀ k0_t45 : Fin (k0_t45_loop v228 v257).trips, ∀ (hinb : ∀ a, (k0_off1442 v1 k0_t34 v228 v257 k0_t45) a + S1x1x1x16x128.size a ≤ S2x2x108x128x128.size a), (Rect.unit (s := S2x2x108x128x128) (k0_off1442 v1 k0_t34 v228 v257 k0_t45) S1x1x1x16x128.size hinb).PackedRows (EltTy.packing .bf16)) ∧
  (∀ k0_t45 : Fin (k0_t45_loop v228 v257).trips, ∀ a, (k0_off1444 v1 k0_t34 v228 v257 k0_t45) a + S1x1x1x16x128.size a ≤ S2x2x108x128x128.size a) ∧
  (∀ k0_t45 : Fin (k0_t45_loop v228 v257).trips, ∀ (hinb : ∀ a, (k0_off1444 v1 k0_t34 v228 v257 k0_t45) a + S1x1x1x16x128.size a ≤ S2x2x108x128x128.size a), (Rect.unit (s := S2x2x108x128x128) (k0_off1444 v1 k0_t34 v228 v257 k0_t45) S1x1x1x16x128.size hinb).PackedRows (EltTy.packing .bf16)) ∧
  (∀ k0_t45 : Fin (k0_t45_loop v228 v257).trips, ∀ a, (k0_off1445 v1 k0_t34 v228 v257 k0_t45) a + S1x1x1x32x128.size a ≤ S2x2x8x1728x128.size a) ∧
  (∀ k0_t45 : Fin (k0_t45_loop v228 v257).trips, ∀ a, (k0_off1447 v1 k0_t34 v228 v257 k0_t45) a + S1x1x1x16x128.size a ≤ S2x2x108x128x128.size a) ∧
  (∀ k0_t45 : Fin (k0_t45_loop v228 v257).trips, ∀ (hinb : ∀ a, (k0_off1447 v1 k0_t34 v228 v257 k0_t45) a + S1x1x1x16x128.size a ≤ S2x2x108x128x128.size a), (Rect.unit (s := S2x2x108x128x128) (k0_off1447 v1 k0_t34 v228 v257 k0_t45) S1x1x1x16x128.size hinb).PackedRows (EltTy.packing .bf16)) ∧
  (∀ k0_t45 : Fin (k0_t45_loop v228 v257).trips, ∀ a, (k0_off1449 v1 k0_t34 v228 v257 k0_t45) a + S1x1x1x16x128.size a ≤ S2x2x108x128x128.size a) ∧
  (∀ k0_t45 : Fin (k0_t45_loop v228 v257).trips, ∀ (hinb : ∀ a, (k0_off1449 v1 k0_t34 v228 v257 k0_t45) a + S1x1x1x16x128.size a ≤ S2x2x108x128x128.size a), (Rect.unit (s := S2x2x108x128x128) (k0_off1449 v1 k0_t34 v228 v257 k0_t45) S1x1x1x16x128.size hinb).PackedRows (EltTy.packing .bf16)) ∧
  (∀ k0_t45 : Fin (k0_t45_loop v228 v257).trips, ∀ a, (k0_off1450 v1 k0_t34 v228 v257 k0_t45) a + S1x1x1x32x128.size a ≤ S2x2x8x1728x128.size a) ∧
  (∀ k0_t45 : Fin (k0_t45_loop v228 v257).trips, ∀ a, (k0_off1452 v1 k0_t34 v228 v257 k0_t45) a + S1x1x1x16x128.size a ≤ S2x2x108x128x128.size a) ∧
  (∀ k0_t45 : Fin (k0_t45_loop v228 v257).trips, ∀ (hinb : ∀ a, (k0_off1452 v1 k0_t34 v228 v257 k0_t45) a + S1x1x1x16x128.size a ≤ S2x2x108x128x128.size a), (Rect.unit (s := S2x2x108x128x128) (k0_off1452 v1 k0_t34 v228 v257 k0_t45) S1x1x1x16x128.size hinb).PackedRows (EltTy.packing .bf16)) ∧
  (∀ k0_t45 : Fin (k0_t45_loop v228 v257).trips, ∀ a, (k0_off1454 v1 k0_t34 v228 v257 k0_t45) a + S1x1x1x16x128.size a ≤ S2x2x108x128x128.size a) ∧
  (∀ k0_t45 : Fin (k0_t45_loop v228 v257).trips, ∀ (hinb : ∀ a, (k0_off1454 v1 k0_t34 v228 v257 k0_t45) a + S1x1x1x16x128.size a ≤ S2x2x108x128x128.size a), (Rect.unit (s := S2x2x108x128x128) (k0_off1454 v1 k0_t34 v228 v257 k0_t45) S1x1x1x16x128.size hinb).PackedRows (EltTy.packing .bf16)) ∧
  ((k0_t46_loop v228 v257).OK) ∧
  (∀ k0_t46 : Fin (k0_t46_loop v228 v257).trips, ∀ a, (k0_off1455 v228 v257 k0_t46) a + S1x1.size a ≤ S8x128.size a) ∧
  (∀ k0_t46 : Fin (k0_t46_loop v228 v257).trips, ∀ a, (k0_off1456 v228) a + S1.size a ≤ S8.size a) ∧
  (∀ k0_t46 : Fin (k0_t46_loop v228 v257).trips, 16 ∣ (k0_mult13 v228 v257 k0_t46).toNat) ∧
  (∀ k0_t46 : Fin (k0_t46_loop v228 v257).trips, ∀ a, (k0_off1457 v1 k0_t34 v228 v257 k0_t46) a + S1x1x1x32x128.size a ≤ S2x2x8x1728x128.size a) ∧
  (∀ k0_t46 : Fin (k0_t46_loop v228 v257).trips, ∀ a, (k0_off1459 v1 k0_t34 v228 v257 k0_t46) a + S1x1x1x16x128.size a ≤ S2x2x108x128x128.size a)
def k0_chk21_40 (v1 : BitVec 32) (k0_t34 : Fin (k0_t34_loop v1).trips) (v228 : BitVec 32) (v257 : BitVec 32) : Prop :=
  (∀ k0_t46 : Fin (k0_t46_loop v228 v257).trips, ∀ (hinb : ∀ a, (k0_off1459 v1 k0_t34 v228 v257 k0_t46) a + S1x1x1x16x128.size a ≤ S2x2x108x128x128.size a), (Rect.unit (s := S2x2x108x128x128) (k0_off1459 v1 k0_t34 v228 v257 k0_t46) S1x1x1x16x128.size hinb).PackedRows (EltTy.packing .bf16)) ∧
  (∀ k0_t46 : Fin (k0_t46_loop v228 v257).trips, ∀ a, (k0_off1461 v1 k0_t34 v228 v257 k0_t46) a + S1x1x1x16x128.size a ≤ S2x2x108x128x128.size a) ∧
  (∀ k0_t46 : Fin (k0_t46_loop v228 v257).trips, ∀ (hinb : ∀ a, (k0_off1461 v1 k0_t34 v228 v257 k0_t46) a + S1x1x1x16x128.size a ≤ S2x2x108x128x128.size a), (Rect.unit (s := S2x2x108x128x128) (k0_off1461 v1 k0_t34 v228 v257 k0_t46) S1x1x1x16x128.size hinb).PackedRows (EltTy.packing .bf16)) ∧
  (∀ k0_t46 : Fin (k0_t46_loop v228 v257).trips, ∀ a, (k0_off1462 v1 k0_t34 v228 v257 k0_t46) a + S1x1x1x32x128.size a ≤ S2x2x8x1728x128.size a) ∧
  (∀ k0_t46 : Fin (k0_t46_loop v228 v257).trips, ∀ a, (k0_off1464 v1 k0_t34 v228 v257 k0_t46) a + S1x1x1x16x128.size a ≤ S2x2x108x128x128.size a) ∧
  (∀ k0_t46 : Fin (k0_t46_loop v228 v257).trips, ∀ (hinb : ∀ a, (k0_off1464 v1 k0_t34 v228 v257 k0_t46) a + S1x1x1x16x128.size a ≤ S2x2x108x128x128.size a), (Rect.unit (s := S2x2x108x128x128) (k0_off1464 v1 k0_t34 v228 v257 k0_t46) S1x1x1x16x128.size hinb).PackedRows (EltTy.packing .bf16)) ∧
  (∀ k0_t46 : Fin (k0_t46_loop v228 v257).trips, ∀ a, (k0_off1466 v1 k0_t34 v228 v257 k0_t46) a + S1x1x1x16x128.size a ≤ S2x2x108x128x128.size a) ∧
  (∀ k0_t46 : Fin (k0_t46_loop v228 v257).trips, ∀ (hinb : ∀ a, (k0_off1466 v1 k0_t34 v228 v257 k0_t46) a + S1x1x1x16x128.size a ≤ S2x2x108x128x128.size a), (Rect.unit (s := S2x2x108x128x128) (k0_off1466 v1 k0_t34 v228 v257 k0_t46) S1x1x1x16x128.size hinb).PackedRows (EltTy.packing .bf16)) ∧
  (∀ k0_t46 : Fin (k0_t46_loop v228 v257).trips, ∀ a, (k0_off1467 v1 k0_t34 v228 v257 k0_t46) a + S1x1x1x32x128.size a ≤ S2x2x8x1728x128.size a) ∧
  (∀ k0_t46 : Fin (k0_t46_loop v228 v257).trips, ∀ a, (k0_off1469 v1 k0_t34 v228 v257 k0_t46) a + S1x1x1x16x128.size a ≤ S2x2x108x128x128.size a) ∧
  (∀ k0_t46 : Fin (k0_t46_loop v228 v257).trips, ∀ (hinb : ∀ a, (k0_off1469 v1 k0_t34 v228 v257 k0_t46) a + S1x1x1x16x128.size a ≤ S2x2x108x128x128.size a), (Rect.unit (s := S2x2x108x128x128) (k0_off1469 v1 k0_t34 v228 v257 k0_t46) S1x1x1x16x128.size hinb).PackedRows (EltTy.packing .bf16)) ∧
  (∀ k0_t46 : Fin (k0_t46_loop v228 v257).trips, ∀ a, (k0_off1471 v1 k0_t34 v228 v257 k0_t46) a + S1x1x1x16x128.size a ≤ S2x2x108x128x128.size a) ∧
  (∀ k0_t46 : Fin (k0_t46_loop v228 v257).trips, ∀ (hinb : ∀ a, (k0_off1471 v1 k0_t34 v228 v257 k0_t46) a + S1x1x1x16x128.size a ≤ S2x2x108x128x128.size a), (Rect.unit (s := S2x2x108x128x128) (k0_off1471 v1 k0_t34 v228 v257 k0_t46) S1x1x1x16x128.size hinb).PackedRows (EltTy.packing .bf16)) ∧
  (∀ k0_t46 : Fin (k0_t46_loop v228 v257).trips, ∀ a, (k0_off1472 v1 k0_t34 v228 v257 k0_t46) a + S1x1x1x32x128.size a ≤ S2x2x8x1728x128.size a) ∧
  (∀ k0_t46 : Fin (k0_t46_loop v228 v257).trips, ∀ a, (k0_off1474 v1 k0_t34 v228 v257 k0_t46) a + S1x1x1x16x128.size a ≤ S2x2x108x128x128.size a) ∧
  (∀ k0_t46 : Fin (k0_t46_loop v228 v257).trips, ∀ (hinb : ∀ a, (k0_off1474 v1 k0_t34 v228 v257 k0_t46) a + S1x1x1x16x128.size a ≤ S2x2x108x128x128.size a), (Rect.unit (s := S2x2x108x128x128) (k0_off1474 v1 k0_t34 v228 v257 k0_t46) S1x1x1x16x128.size hinb).PackedRows (EltTy.packing .bf16)) ∧
  (∀ k0_t46 : Fin (k0_t46_loop v228 v257).trips, ∀ a, (k0_off1476 v1 k0_t34 v228 v257 k0_t46) a + S1x1x1x16x128.size a ≤ S2x2x108x128x128.size a) ∧
  (∀ k0_t46 : Fin (k0_t46_loop v228 v257).trips, ∀ (hinb : ∀ a, (k0_off1476 v1 k0_t34 v228 v257 k0_t46) a + S1x1x1x16x128.size a ≤ S2x2x108x128x128.size a), (Rect.unit (s := S2x2x108x128x128) (k0_off1476 v1 k0_t34 v228 v257 k0_t46) S1x1x1x16x128.size hinb).PackedRows (EltTy.packing .bf16)) ∧
  (∀ k0_t46 : Fin (k0_t46_loop v228 v257).trips, ∀ a, (k0_off1477 v1 k0_t34 v228 v257 k0_t46) a + S1x1x1x32x128.size a ≤ S2x2x8x1728x128.size a) ∧
  (∀ k0_t46 : Fin (k0_t46_loop v228 v257).trips, ∀ a, (k0_off1479 v1 k0_t34 v228 v257 k0_t46) a + S1x1x1x16x128.size a ≤ S2x2x108x128x128.size a) ∧
  (∀ k0_t46 : Fin (k0_t46_loop v228 v257).trips, ∀ (hinb : ∀ a, (k0_off1479 v1 k0_t34 v228 v257 k0_t46) a + S1x1x1x16x128.size a ≤ S2x2x108x128x128.size a), (Rect.unit (s := S2x2x108x128x128) (k0_off1479 v1 k0_t34 v228 v257 k0_t46) S1x1x1x16x128.size hinb).PackedRows (EltTy.packing .bf16)) ∧
  (∀ k0_t46 : Fin (k0_t46_loop v228 v257).trips, ∀ a, (k0_off1481 v1 k0_t34 v228 v257 k0_t46) a + S1x1x1x16x128.size a ≤ S2x2x108x128x128.size a) ∧
  (∀ k0_t46 : Fin (k0_t46_loop v228 v257).trips, ∀ (hinb : ∀ a, (k0_off1481 v1 k0_t34 v228 v257 k0_t46) a + S1x1x1x16x128.size a ≤ S2x2x108x128x128.size a), (Rect.unit (s := S2x2x108x128x128) (k0_off1481 v1 k0_t34 v228 v257 k0_t46) S1x1x1x16x128.size hinb).PackedRows (EltTy.packing .bf16)) ∧
  (∀ k0_t46 : Fin (k0_t46_loop v228 v257).trips, ∀ a, (k0_off1482 v1 k0_t34 v228 v257 k0_t46) a + S1x1x1x32x128.size a ≤ S2x2x8x1728x128.size a) ∧
  (∀ k0_t46 : Fin (k0_t46_loop v228 v257).trips, ∀ a, (k0_off1484 v1 k0_t34 v228 v257 k0_t46) a + S1x1x1x16x128.size a ≤ S2x2x108x128x128.size a) ∧
  (∀ k0_t46 : Fin (k0_t46_loop v228 v257).trips, ∀ (hinb : ∀ a, (k0_off1484 v1 k0_t34 v228 v257 k0_t46) a + S1x1x1x16x128.size a ≤ S2x2x108x128x128.size a), (Rect.unit (s := S2x2x108x128x128) (k0_off1484 v1 k0_t34 v228 v257 k0_t46) S1x1x1x16x128.size hinb).PackedRows (EltTy.packing .bf16)) ∧
  (∀ k0_t46 : Fin (k0_t46_loop v228 v257).trips, ∀ a, (k0_off1486 v1 k0_t34 v228 v257 k0_t46) a + S1x1x1x16x128.size a ≤ S2x2x108x128x128.size a) ∧
  (∀ k0_t46 : Fin (k0_t46_loop v228 v257).trips, ∀ (hinb : ∀ a, (k0_off1486 v1 k0_t34 v228 v257 k0_t46) a + S1x1x1x16x128.size a ≤ S2x2x108x128x128.size a), (Rect.unit (s := S2x2x108x128x128) (k0_off1486 v1 k0_t34 v228 v257 k0_t46) S1x1x1x16x128.size hinb).PackedRows (EltTy.packing .bf16)) ∧
  (∀ k0_t46 : Fin (k0_t46_loop v228 v257).trips, ∀ a, (k0_off1487 v1 k0_t34 v228 v257 k0_t46) a + S1x1x1x32x128.size a ≤ S2x2x8x1728x128.size a) ∧
  (∀ k0_t46 : Fin (k0_t46_loop v228 v257).trips, ∀ a, (k0_off1489 v1 k0_t34 v228 v257 k0_t46) a + S1x1x1x16x128.size a ≤ S2x2x108x128x128.size a) ∧
  (∀ k0_t46 : Fin (k0_t46_loop v228 v257).trips, ∀ (hinb : ∀ a, (k0_off1489 v1 k0_t34 v228 v257 k0_t46) a + S1x1x1x16x128.size a ≤ S2x2x108x128x128.size a), (Rect.unit (s := S2x2x108x128x128) (k0_off1489 v1 k0_t34 v228 v257 k0_t46) S1x1x1x16x128.size hinb).PackedRows (EltTy.packing .bf16)) ∧
  (∀ k0_t46 : Fin (k0_t46_loop v228 v257).trips, ∀ a, (k0_off1491 v1 k0_t34 v228 v257 k0_t46) a + S1x1x1x16x128.size a ≤ S2x2x108x128x128.size a)
def k0_chk21_41 (v1 : BitVec 32) (k0_t34 : Fin (k0_t34_loop v1).trips) (v228 : BitVec 32) (v257 : BitVec 32) : Prop :=
  (∀ k0_t46 : Fin (k0_t46_loop v228 v257).trips, ∀ (hinb : ∀ a, (k0_off1491 v1 k0_t34 v228 v257 k0_t46) a + S1x1x1x16x128.size a ≤ S2x2x108x128x128.size a), (Rect.unit (s := S2x2x108x128x128) (k0_off1491 v1 k0_t34 v228 v257 k0_t46) S1x1x1x16x128.size hinb).PackedRows (EltTy.packing .bf16)) ∧
  (∀ k0_t46 : Fin (k0_t46_loop v228 v257).trips, ∀ a, (k0_off1492 v1 k0_t34 v228 v257 k0_t46) a + S1x1x1x32x128.size a ≤ S2x2x8x1728x128.size a) ∧
  (∀ k0_t46 : Fin (k0_t46_loop v228 v257).trips, ∀ a, (k0_off1494 v1 k0_t34 v228 v257 k0_t46) a + S1x1x1x16x128.size a ≤ S2x2x108x128x128.size a) ∧
  (∀ k0_t46 : Fin (k0_t46_loop v228 v257).trips, ∀ (hinb : ∀ a, (k0_off1494 v1 k0_t34 v228 v257 k0_t46) a + S1x1x1x16x128.size a ≤ S2x2x108x128x128.size a), (Rect.unit (s := S2x2x108x128x128) (k0_off1494 v1 k0_t34 v228 v257 k0_t46) S1x1x1x16x128.size hinb).PackedRows (EltTy.packing .bf16)) ∧
  (∀ k0_t46 : Fin (k0_t46_loop v228 v257).trips, ∀ a, (k0_off1496 v1 k0_t34 v228 v257 k0_t46) a + S1x1x1x16x128.size a ≤ S2x2x108x128x128.size a) ∧
  (∀ k0_t46 : Fin (k0_t46_loop v228 v257).trips, ∀ (hinb : ∀ a, (k0_off1496 v1 k0_t34 v228 v257 k0_t46) a + S1x1x1x16x128.size a ≤ S2x2x108x128x128.size a), (Rect.unit (s := S2x2x108x128x128) (k0_off1496 v1 k0_t34 v228 v257 k0_t46) S1x1x1x16x128.size hinb).PackedRows (EltTy.packing .bf16)) ∧
  (∀ k0_t46 : Fin (k0_t46_loop v228 v257).trips, ∀ a, (k0_off1497 v1 k0_t34 v228 v257 k0_t46) a + S1x1x1x32x128.size a ≤ S2x2x8x1728x128.size a) ∧
  (∀ k0_t46 : Fin (k0_t46_loop v228 v257).trips, ∀ a, (k0_off1499 v1 k0_t34 v228 v257 k0_t46) a + S1x1x1x16x128.size a ≤ S2x2x108x128x128.size a) ∧
  (∀ k0_t46 : Fin (k0_t46_loop v228 v257).trips, ∀ (hinb : ∀ a, (k0_off1499 v1 k0_t34 v228 v257 k0_t46) a + S1x1x1x16x128.size a ≤ S2x2x108x128x128.size a), (Rect.unit (s := S2x2x108x128x128) (k0_off1499 v1 k0_t34 v228 v257 k0_t46) S1x1x1x16x128.size hinb).PackedRows (EltTy.packing .bf16)) ∧
  (∀ k0_t46 : Fin (k0_t46_loop v228 v257).trips, ∀ a, (k0_off1501 v1 k0_t34 v228 v257 k0_t46) a + S1x1x1x16x128.size a ≤ S2x2x108x128x128.size a) ∧
  (∀ k0_t46 : Fin (k0_t46_loop v228 v257).trips, ∀ (hinb : ∀ a, (k0_off1501 v1 k0_t34 v228 v257 k0_t46) a + S1x1x1x16x128.size a ≤ S2x2x108x128x128.size a), (Rect.unit (s := S2x2x108x128x128) (k0_off1501 v1 k0_t34 v228 v257 k0_t46) S1x1x1x16x128.size hinb).PackedRows (EltTy.packing .bf16)) ∧
  (∀ k0_t46 : Fin (k0_t46_loop v228 v257).trips, ∀ a, (k0_off1502 v1 k0_t34 v228 v257 k0_t46) a + S1x1x1x32x128.size a ≤ S2x2x8x1728x128.size a) ∧
  (∀ k0_t46 : Fin (k0_t46_loop v228 v257).trips, ∀ a, (k0_off1504 v1 k0_t34 v228 v257 k0_t46) a + S1x1x1x16x128.size a ≤ S2x2x108x128x128.size a) ∧
  (∀ k0_t46 : Fin (k0_t46_loop v228 v257).trips, ∀ (hinb : ∀ a, (k0_off1504 v1 k0_t34 v228 v257 k0_t46) a + S1x1x1x16x128.size a ≤ S2x2x108x128x128.size a), (Rect.unit (s := S2x2x108x128x128) (k0_off1504 v1 k0_t34 v228 v257 k0_t46) S1x1x1x16x128.size hinb).PackedRows (EltTy.packing .bf16)) ∧
  (∀ k0_t46 : Fin (k0_t46_loop v228 v257).trips, ∀ a, (k0_off1506 v1 k0_t34 v228 v257 k0_t46) a + S1x1x1x16x128.size a ≤ S2x2x108x128x128.size a) ∧
  (∀ k0_t46 : Fin (k0_t46_loop v228 v257).trips, ∀ (hinb : ∀ a, (k0_off1506 v1 k0_t34 v228 v257 k0_t46) a + S1x1x1x16x128.size a ≤ S2x2x108x128x128.size a), (Rect.unit (s := S2x2x108x128x128) (k0_off1506 v1 k0_t34 v228 v257 k0_t46) S1x1x1x16x128.size hinb).PackedRows (EltTy.packing .bf16)) ∧
  (∀ k0_t46 : Fin (k0_t46_loop v228 v257).trips, ∀ a, (k0_off1507 v1 k0_t34 v228 v257 k0_t46) a + S1x1x1x32x128.size a ≤ S2x2x8x1728x128.size a) ∧
  (∀ k0_t46 : Fin (k0_t46_loop v228 v257).trips, ∀ a, (k0_off1509 v1 k0_t34 v228 v257 k0_t46) a + S1x1x1x16x128.size a ≤ S2x2x108x128x128.size a) ∧
  (∀ k0_t46 : Fin (k0_t46_loop v228 v257).trips, ∀ (hinb : ∀ a, (k0_off1509 v1 k0_t34 v228 v257 k0_t46) a + S1x1x1x16x128.size a ≤ S2x2x108x128x128.size a), (Rect.unit (s := S2x2x108x128x128) (k0_off1509 v1 k0_t34 v228 v257 k0_t46) S1x1x1x16x128.size hinb).PackedRows (EltTy.packing .bf16)) ∧
  (∀ k0_t46 : Fin (k0_t46_loop v228 v257).trips, ∀ a, (k0_off1511 v1 k0_t34 v228 v257 k0_t46) a + S1x1x1x16x128.size a ≤ S2x2x108x128x128.size a) ∧
  (∀ k0_t46 : Fin (k0_t46_loop v228 v257).trips, ∀ (hinb : ∀ a, (k0_off1511 v1 k0_t34 v228 v257 k0_t46) a + S1x1x1x16x128.size a ≤ S2x2x108x128x128.size a), (Rect.unit (s := S2x2x108x128x128) (k0_off1511 v1 k0_t34 v228 v257 k0_t46) S1x1x1x16x128.size hinb).PackedRows (EltTy.packing .bf16)) ∧
  (∀ k0_t46 : Fin (k0_t46_loop v228 v257).trips, ∀ a, (k0_off1512 v1 k0_t34 v228 v257 k0_t46) a + S1x1x1x32x128.size a ≤ S2x2x8x1728x128.size a) ∧
  (∀ k0_t46 : Fin (k0_t46_loop v228 v257).trips, ∀ a, (k0_off1514 v1 k0_t34 v228 v257 k0_t46) a + S1x1x1x16x128.size a ≤ S2x2x108x128x128.size a) ∧
  (∀ k0_t46 : Fin (k0_t46_loop v228 v257).trips, ∀ (hinb : ∀ a, (k0_off1514 v1 k0_t34 v228 v257 k0_t46) a + S1x1x1x16x128.size a ≤ S2x2x108x128x128.size a), (Rect.unit (s := S2x2x108x128x128) (k0_off1514 v1 k0_t34 v228 v257 k0_t46) S1x1x1x16x128.size hinb).PackedRows (EltTy.packing .bf16)) ∧
  (∀ k0_t46 : Fin (k0_t46_loop v228 v257).trips, ∀ a, (k0_off1516 v1 k0_t34 v228 v257 k0_t46) a + S1x1x1x16x128.size a ≤ S2x2x108x128x128.size a) ∧
  (∀ k0_t46 : Fin (k0_t46_loop v228 v257).trips, ∀ (hinb : ∀ a, (k0_off1516 v1 k0_t34 v228 v257 k0_t46) a + S1x1x1x16x128.size a ≤ S2x2x108x128x128.size a), (Rect.unit (s := S2x2x108x128x128) (k0_off1516 v1 k0_t34 v228 v257 k0_t46) S1x1x1x16x128.size hinb).PackedRows (EltTy.packing .bf16)) ∧
  (∀ k0_t46 : Fin (k0_t46_loop v228 v257).trips, ∀ a, (k0_off1517 v1 k0_t34 v228 v257 k0_t46) a + S1x1x1x32x128.size a ≤ S2x2x8x1728x128.size a) ∧
  (∀ k0_t46 : Fin (k0_t46_loop v228 v257).trips, ∀ a, (k0_off1519 v1 k0_t34 v228 v257 k0_t46) a + S1x1x1x16x128.size a ≤ S2x2x108x128x128.size a) ∧
  (∀ k0_t46 : Fin (k0_t46_loop v228 v257).trips, ∀ (hinb : ∀ a, (k0_off1519 v1 k0_t34 v228 v257 k0_t46) a + S1x1x1x16x128.size a ≤ S2x2x108x128x128.size a), (Rect.unit (s := S2x2x108x128x128) (k0_off1519 v1 k0_t34 v228 v257 k0_t46) S1x1x1x16x128.size hinb).PackedRows (EltTy.packing .bf16)) ∧
  (∀ k0_t46 : Fin (k0_t46_loop v228 v257).trips, ∀ a, (k0_off1521 v1 k0_t34 v228 v257 k0_t46) a + S1x1x1x16x128.size a ≤ S2x2x108x128x128.size a) ∧
  (∀ k0_t46 : Fin (k0_t46_loop v228 v257).trips, ∀ (hinb : ∀ a, (k0_off1521 v1 k0_t34 v228 v257 k0_t46) a + S1x1x1x16x128.size a ≤ S2x2x108x128x128.size a), (Rect.unit (s := S2x2x108x128x128) (k0_off1521 v1 k0_t34 v228 v257 k0_t46) S1x1x1x16x128.size hinb).PackedRows (EltTy.packing .bf16)) ∧
  (∀ k0_t46 : Fin (k0_t46_loop v228 v257).trips, ∀ a, (k0_off1522 v1 k0_t34 v228 v257 k0_t46) a + S1x1x1x32x128.size a ≤ S2x2x8x1728x128.size a)
def k0_chk21_42 (v1 : BitVec 32) (k0_t34 : Fin (k0_t34_loop v1).trips) (v228 : BitVec 32) (v257 : BitVec 32) : Prop :=
  (∀ k0_t46 : Fin (k0_t46_loop v228 v257).trips, ∀ a, (k0_off1524 v1 k0_t34 v228 v257 k0_t46) a + S1x1x1x16x128.size a ≤ S2x2x108x128x128.size a) ∧
  (∀ k0_t46 : Fin (k0_t46_loop v228 v257).trips, ∀ (hinb : ∀ a, (k0_off1524 v1 k0_t34 v228 v257 k0_t46) a + S1x1x1x16x128.size a ≤ S2x2x108x128x128.size a), (Rect.unit (s := S2x2x108x128x128) (k0_off1524 v1 k0_t34 v228 v257 k0_t46) S1x1x1x16x128.size hinb).PackedRows (EltTy.packing .bf16)) ∧
  (∀ k0_t46 : Fin (k0_t46_loop v228 v257).trips, ∀ a, (k0_off1526 v1 k0_t34 v228 v257 k0_t46) a + S1x1x1x16x128.size a ≤ S2x2x108x128x128.size a) ∧
  (∀ k0_t46 : Fin (k0_t46_loop v228 v257).trips, ∀ (hinb : ∀ a, (k0_off1526 v1 k0_t34 v228 v257 k0_t46) a + S1x1x1x16x128.size a ≤ S2x2x108x128x128.size a), (Rect.unit (s := S2x2x108x128x128) (k0_off1526 v1 k0_t34 v228 v257 k0_t46) S1x1x1x16x128.size hinb).PackedRows (EltTy.packing .bf16)) ∧
  (∀ k0_t46 : Fin (k0_t46_loop v228 v257).trips, ∀ a, (k0_off1527 v1 k0_t34 v228 v257 k0_t46) a + S1x1x1x32x128.size a ≤ S2x2x8x1728x128.size a) ∧
  (∀ k0_t46 : Fin (k0_t46_loop v228 v257).trips, ∀ a, (k0_off1529 v1 k0_t34 v228 v257 k0_t46) a + S1x1x1x16x128.size a ≤ S2x2x108x128x128.size a) ∧
  (∀ k0_t46 : Fin (k0_t46_loop v228 v257).trips, ∀ (hinb : ∀ a, (k0_off1529 v1 k0_t34 v228 v257 k0_t46) a + S1x1x1x16x128.size a ≤ S2x2x108x128x128.size a), (Rect.unit (s := S2x2x108x128x128) (k0_off1529 v1 k0_t34 v228 v257 k0_t46) S1x1x1x16x128.size hinb).PackedRows (EltTy.packing .bf16)) ∧
  (∀ k0_t46 : Fin (k0_t46_loop v228 v257).trips, ∀ a, (k0_off1531 v1 k0_t34 v228 v257 k0_t46) a + S1x1x1x16x128.size a ≤ S2x2x108x128x128.size a) ∧
  (∀ k0_t46 : Fin (k0_t46_loop v228 v257).trips, ∀ (hinb : ∀ a, (k0_off1531 v1 k0_t34 v228 v257 k0_t46) a + S1x1x1x16x128.size a ≤ S2x2x108x128x128.size a), (Rect.unit (s := S2x2x108x128x128) (k0_off1531 v1 k0_t34 v228 v257 k0_t46) S1x1x1x16x128.size hinb).PackedRows (EltTy.packing .bf16)) ∧
  (∀ k0_t46 : Fin (k0_t46_loop v228 v257).trips, ∀ a, (k0_off1532 v1 k0_t34 v228 v257 k0_t46) a + S1x1x1x32x128.size a ≤ S2x2x8x1728x128.size a) ∧
  (∀ k0_t46 : Fin (k0_t46_loop v228 v257).trips, ∀ a, (k0_off1534 v1 k0_t34 v228 v257 k0_t46) a + S1x1x1x16x128.size a ≤ S2x2x108x128x128.size a) ∧
  (∀ k0_t46 : Fin (k0_t46_loop v228 v257).trips, ∀ (hinb : ∀ a, (k0_off1534 v1 k0_t34 v228 v257 k0_t46) a + S1x1x1x16x128.size a ≤ S2x2x108x128x128.size a), (Rect.unit (s := S2x2x108x128x128) (k0_off1534 v1 k0_t34 v228 v257 k0_t46) S1x1x1x16x128.size hinb).PackedRows (EltTy.packing .bf16)) ∧
  (∀ k0_t46 : Fin (k0_t46_loop v228 v257).trips, ∀ a, (k0_off1536 v1 k0_t34 v228 v257 k0_t46) a + S1x1x1x16x128.size a ≤ S2x2x108x128x128.size a) ∧
  (∀ k0_t46 : Fin (k0_t46_loop v228 v257).trips, ∀ (hinb : ∀ a, (k0_off1536 v1 k0_t34 v228 v257 k0_t46) a + S1x1x1x16x128.size a ≤ S2x2x108x128x128.size a), (Rect.unit (s := S2x2x108x128x128) (k0_off1536 v1 k0_t34 v228 v257 k0_t46) S1x1x1x16x128.size hinb).PackedRows (EltTy.packing .bf16)) ∧
  (∀ k0_t46 : Fin (k0_t46_loop v228 v257).trips, ∀ a, (k0_off1537 v1 k0_t34 v228 v257 k0_t46) a + S1x1x1x32x128.size a ≤ S2x2x8x1728x128.size a) ∧
  (∀ k0_t46 : Fin (k0_t46_loop v228 v257).trips, ∀ a, (k0_off1539 v1 k0_t34 v228 v257 k0_t46) a + S1x1x1x16x128.size a ≤ S2x2x108x128x128.size a) ∧
  (∀ k0_t46 : Fin (k0_t46_loop v228 v257).trips, ∀ (hinb : ∀ a, (k0_off1539 v1 k0_t34 v228 v257 k0_t46) a + S1x1x1x16x128.size a ≤ S2x2x108x128x128.size a), (Rect.unit (s := S2x2x108x128x128) (k0_off1539 v1 k0_t34 v228 v257 k0_t46) S1x1x1x16x128.size hinb).PackedRows (EltTy.packing .bf16)) ∧
  (∀ k0_t46 : Fin (k0_t46_loop v228 v257).trips, ∀ a, (k0_off1541 v1 k0_t34 v228 v257 k0_t46) a + S1x1x1x16x128.size a ≤ S2x2x108x128x128.size a) ∧
  (∀ k0_t46 : Fin (k0_t46_loop v228 v257).trips, ∀ (hinb : ∀ a, (k0_off1541 v1 k0_t34 v228 v257 k0_t46) a + S1x1x1x16x128.size a ≤ S2x2x108x128x128.size a), (Rect.unit (s := S2x2x108x128x128) (k0_off1541 v1 k0_t34 v228 v257 k0_t46) S1x1x1x16x128.size hinb).PackedRows (EltTy.packing .bf16)) ∧
  (∀ k0_t46 : Fin (k0_t46_loop v228 v257).trips, ∀ a, (k0_off1542 v1 k0_t34 v228 v257 k0_t46) a + S1x1x1x32x128.size a ≤ S2x2x8x1728x128.size a) ∧
  (∀ k0_t46 : Fin (k0_t46_loop v228 v257).trips, ∀ a, (k0_off1544 v1 k0_t34 v228 v257 k0_t46) a + S1x1x1x16x128.size a ≤ S2x2x108x128x128.size a) ∧
  (∀ k0_t46 : Fin (k0_t46_loop v228 v257).trips, ∀ (hinb : ∀ a, (k0_off1544 v1 k0_t34 v228 v257 k0_t46) a + S1x1x1x16x128.size a ≤ S2x2x108x128x128.size a), (Rect.unit (s := S2x2x108x128x128) (k0_off1544 v1 k0_t34 v228 v257 k0_t46) S1x1x1x16x128.size hinb).PackedRows (EltTy.packing .bf16)) ∧
  (∀ k0_t46 : Fin (k0_t46_loop v228 v257).trips, ∀ a, (k0_off1546 v1 k0_t34 v228 v257 k0_t46) a + S1x1x1x16x128.size a ≤ S2x2x108x128x128.size a) ∧
  (∀ k0_t46 : Fin (k0_t46_loop v228 v257).trips, ∀ (hinb : ∀ a, (k0_off1546 v1 k0_t34 v228 v257 k0_t46) a + S1x1x1x16x128.size a ≤ S2x2x108x128x128.size a), (Rect.unit (s := S2x2x108x128x128) (k0_off1546 v1 k0_t34 v228 v257 k0_t46) S1x1x1x16x128.size hinb).PackedRows (EltTy.packing .bf16)) ∧
  (∀ k0_t46 : Fin (k0_t46_loop v228 v257).trips, ∀ a, (k0_off1547 v1 k0_t34 v228 v257 k0_t46) a + S1x1x1x32x128.size a ≤ S2x2x8x1728x128.size a) ∧
  (∀ k0_t46 : Fin (k0_t46_loop v228 v257).trips, ∀ a, (k0_off1549 v1 k0_t34 v228 v257 k0_t46) a + S1x1x1x16x128.size a ≤ S2x2x108x128x128.size a) ∧
  (∀ k0_t46 : Fin (k0_t46_loop v228 v257).trips, ∀ (hinb : ∀ a, (k0_off1549 v1 k0_t34 v228 v257 k0_t46) a + S1x1x1x16x128.size a ≤ S2x2x108x128x128.size a), (Rect.unit (s := S2x2x108x128x128) (k0_off1549 v1 k0_t34 v228 v257 k0_t46) S1x1x1x16x128.size hinb).PackedRows (EltTy.packing .bf16)) ∧
  (∀ k0_t46 : Fin (k0_t46_loop v228 v257).trips, ∀ a, (k0_off1551 v1 k0_t34 v228 v257 k0_t46) a + S1x1x1x16x128.size a ≤ S2x2x108x128x128.size a) ∧
  (∀ k0_t46 : Fin (k0_t46_loop v228 v257).trips, ∀ (hinb : ∀ a, (k0_off1551 v1 k0_t34 v228 v257 k0_t46) a + S1x1x1x16x128.size a ≤ S2x2x108x128x128.size a), (Rect.unit (s := S2x2x108x128x128) (k0_off1551 v1 k0_t34 v228 v257 k0_t46) S1x1x1x16x128.size hinb).PackedRows (EltTy.packing .bf16)) ∧
  (∀ k0_t46 : Fin (k0_t46_loop v228 v257).trips, ∀ a, (k0_off1552 v1 k0_t34 v228 v257 k0_t46) a + S1x1x1x32x128.size a ≤ S2x2x8x1728x128.size a) ∧
  (∀ k0_t46 : Fin (k0_t46_loop v228 v257).trips, ∀ a, (k0_off1554 v1 k0_t34 v228 v257 k0_t46) a + S1x1x1x16x128.size a ≤ S2x2x108x128x128.size a) ∧
  (∀ k0_t46 : Fin (k0_t46_loop v228 v257).trips, ∀ (hinb : ∀ a, (k0_off1554 v1 k0_t34 v228 v257 k0_t46) a + S1x1x1x16x128.size a ≤ S2x2x108x128x128.size a), (Rect.unit (s := S2x2x108x128x128) (k0_off1554 v1 k0_t34 v228 v257 k0_t46) S1x1x1x16x128.size hinb).PackedRows (EltTy.packing .bf16))
def k0_chk21_43 (v1 : BitVec 32) (k0_t34 : Fin (k0_t34_loop v1).trips) (v228 : BitVec 32) (v257 : BitVec 32) : Prop :=
  (∀ k0_t46 : Fin (k0_t46_loop v228 v257).trips, ∀ a, (k0_off1556 v1 k0_t34 v228 v257 k0_t46) a + S1x1x1x16x128.size a ≤ S2x2x108x128x128.size a) ∧
  (∀ k0_t46 : Fin (k0_t46_loop v228 v257).trips, ∀ (hinb : ∀ a, (k0_off1556 v1 k0_t34 v228 v257 k0_t46) a + S1x1x1x16x128.size a ≤ S2x2x108x128x128.size a), (Rect.unit (s := S2x2x108x128x128) (k0_off1556 v1 k0_t34 v228 v257 k0_t46) S1x1x1x16x128.size hinb).PackedRows (EltTy.packing .bf16)) ∧
  (∀ k0_t46 : Fin (k0_t46_loop v228 v257).trips, ∀ a, (k0_off1557 v1 k0_t34 v228 v257 k0_t46) a + S1x1x1x32x128.size a ≤ S2x2x8x1728x128.size a) ∧
  (∀ k0_t46 : Fin (k0_t46_loop v228 v257).trips, ∀ a, (k0_off1559 v1 k0_t34 v228 v257 k0_t46) a + S1x1x1x16x128.size a ≤ S2x2x108x128x128.size a) ∧
  (∀ k0_t46 : Fin (k0_t46_loop v228 v257).trips, ∀ (hinb : ∀ a, (k0_off1559 v1 k0_t34 v228 v257 k0_t46) a + S1x1x1x16x128.size a ≤ S2x2x108x128x128.size a), (Rect.unit (s := S2x2x108x128x128) (k0_off1559 v1 k0_t34 v228 v257 k0_t46) S1x1x1x16x128.size hinb).PackedRows (EltTy.packing .bf16)) ∧
  (∀ k0_t46 : Fin (k0_t46_loop v228 v257).trips, ∀ a, (k0_off1561 v1 k0_t34 v228 v257 k0_t46) a + S1x1x1x16x128.size a ≤ S2x2x108x128x128.size a) ∧
  (∀ k0_t46 : Fin (k0_t46_loop v228 v257).trips, ∀ (hinb : ∀ a, (k0_off1561 v1 k0_t34 v228 v257 k0_t46) a + S1x1x1x16x128.size a ≤ S2x2x108x128x128.size a), (Rect.unit (s := S2x2x108x128x128) (k0_off1561 v1 k0_t34 v228 v257 k0_t46) S1x1x1x16x128.size hinb).PackedRows (EltTy.packing .bf16)) ∧
  (∀ k0_t46 : Fin (k0_t46_loop v228 v257).trips, ∀ a, (k0_off1562 v1 k0_t34 v228 v257 k0_t46) a + S1x1x1x32x128.size a ≤ S2x2x8x1728x128.size a) ∧
  (∀ k0_t46 : Fin (k0_t46_loop v228 v257).trips, ∀ a, (k0_off1564 v1 k0_t34 v228 v257 k0_t46) a + S1x1x1x16x128.size a ≤ S2x2x108x128x128.size a) ∧
  (∀ k0_t46 : Fin (k0_t46_loop v228 v257).trips, ∀ (hinb : ∀ a, (k0_off1564 v1 k0_t34 v228 v257 k0_t46) a + S1x1x1x16x128.size a ≤ S2x2x108x128x128.size a), (Rect.unit (s := S2x2x108x128x128) (k0_off1564 v1 k0_t34 v228 v257 k0_t46) S1x1x1x16x128.size hinb).PackedRows (EltTy.packing .bf16)) ∧
  (∀ k0_t46 : Fin (k0_t46_loop v228 v257).trips, ∀ a, (k0_off1566 v1 k0_t34 v228 v257 k0_t46) a + S1x1x1x16x128.size a ≤ S2x2x108x128x128.size a) ∧
  (∀ k0_t46 : Fin (k0_t46_loop v228 v257).trips, ∀ (hinb : ∀ a, (k0_off1566 v1 k0_t34 v228 v257 k0_t46) a + S1x1x1x16x128.size a ≤ S2x2x108x128x128.size a), (Rect.unit (s := S2x2x108x128x128) (k0_off1566 v1 k0_t34 v228 v257 k0_t46) S1x1x1x16x128.size hinb).PackedRows (EltTy.packing .bf16)) ∧
  (∀ k0_t46 : Fin (k0_t46_loop v228 v257).trips, ∀ a, (k0_off1567 v1 k0_t34 v228 v257 k0_t46) a + S1x1x1x32x128.size a ≤ S2x2x8x1728x128.size a) ∧
  (∀ k0_t46 : Fin (k0_t46_loop v228 v257).trips, ∀ a, (k0_off1569 v1 k0_t34 v228 v257 k0_t46) a + S1x1x1x16x128.size a ≤ S2x2x108x128x128.size a) ∧
  (∀ k0_t46 : Fin (k0_t46_loop v228 v257).trips, ∀ (hinb : ∀ a, (k0_off1569 v1 k0_t34 v228 v257 k0_t46) a + S1x1x1x16x128.size a ≤ S2x2x108x128x128.size a), (Rect.unit (s := S2x2x108x128x128) (k0_off1569 v1 k0_t34 v228 v257 k0_t46) S1x1x1x16x128.size hinb).PackedRows (EltTy.packing .bf16)) ∧
  (∀ k0_t46 : Fin (k0_t46_loop v228 v257).trips, ∀ a, (k0_off1571 v1 k0_t34 v228 v257 k0_t46) a + S1x1x1x16x128.size a ≤ S2x2x108x128x128.size a) ∧
  (∀ k0_t46 : Fin (k0_t46_loop v228 v257).trips, ∀ (hinb : ∀ a, (k0_off1571 v1 k0_t34 v228 v257 k0_t46) a + S1x1x1x16x128.size a ≤ S2x2x108x128x128.size a), (Rect.unit (s := S2x2x108x128x128) (k0_off1571 v1 k0_t34 v228 v257 k0_t46) S1x1x1x16x128.size hinb).PackedRows (EltTy.packing .bf16)) ∧
  (∀ k0_t46 : Fin (k0_t46_loop v228 v257).trips, ∀ a, (k0_off1572 v1 k0_t34 v228 v257 k0_t46) a + S1x1x1x32x128.size a ≤ S2x2x8x1728x128.size a) ∧
  (∀ k0_t46 : Fin (k0_t46_loop v228 v257).trips, ∀ a, (k0_off1574 v1 k0_t34 v228 v257 k0_t46) a + S1x1x1x16x128.size a ≤ S2x2x108x128x128.size a) ∧
  (∀ k0_t46 : Fin (k0_t46_loop v228 v257).trips, ∀ (hinb : ∀ a, (k0_off1574 v1 k0_t34 v228 v257 k0_t46) a + S1x1x1x16x128.size a ≤ S2x2x108x128x128.size a), (Rect.unit (s := S2x2x108x128x128) (k0_off1574 v1 k0_t34 v228 v257 k0_t46) S1x1x1x16x128.size hinb).PackedRows (EltTy.packing .bf16)) ∧
  (∀ k0_t46 : Fin (k0_t46_loop v228 v257).trips, ∀ a, (k0_off1576 v1 k0_t34 v228 v257 k0_t46) a + S1x1x1x16x128.size a ≤ S2x2x108x128x128.size a) ∧
  (∀ k0_t46 : Fin (k0_t46_loop v228 v257).trips, ∀ (hinb : ∀ a, (k0_off1576 v1 k0_t34 v228 v257 k0_t46) a + S1x1x1x16x128.size a ≤ S2x2x108x128x128.size a), (Rect.unit (s := S2x2x108x128x128) (k0_off1576 v1 k0_t34 v228 v257 k0_t46) S1x1x1x16x128.size hinb).PackedRows (EltTy.packing .bf16)) ∧
  (∀ k0_t46 : Fin (k0_t46_loop v228 v257).trips, ∀ a, (k0_off1577 v1 k0_t34 v228 v257 k0_t46) a + S1x1x1x32x128.size a ≤ S2x2x8x1728x128.size a) ∧
  (∀ k0_t46 : Fin (k0_t46_loop v228 v257).trips, ∀ a, (k0_off1579 v1 k0_t34 v228 v257 k0_t46) a + S1x1x1x16x128.size a ≤ S2x2x108x128x128.size a) ∧
  (∀ k0_t46 : Fin (k0_t46_loop v228 v257).trips, ∀ (hinb : ∀ a, (k0_off1579 v1 k0_t34 v228 v257 k0_t46) a + S1x1x1x16x128.size a ≤ S2x2x108x128x128.size a), (Rect.unit (s := S2x2x108x128x128) (k0_off1579 v1 k0_t34 v228 v257 k0_t46) S1x1x1x16x128.size hinb).PackedRows (EltTy.packing .bf16)) ∧
  (∀ k0_t46 : Fin (k0_t46_loop v228 v257).trips, ∀ a, (k0_off1581 v1 k0_t34 v228 v257 k0_t46) a + S1x1x1x16x128.size a ≤ S2x2x108x128x128.size a) ∧
  (∀ k0_t46 : Fin (k0_t46_loop v228 v257).trips, ∀ (hinb : ∀ a, (k0_off1581 v1 k0_t34 v228 v257 k0_t46) a + S1x1x1x16x128.size a ≤ S2x2x108x128x128.size a), (Rect.unit (s := S2x2x108x128x128) (k0_off1581 v1 k0_t34 v228 v257 k0_t46) S1x1x1x16x128.size hinb).PackedRows (EltTy.packing .bf16)) ∧
  (∀ k0_t46 : Fin (k0_t46_loop v228 v257).trips, ∀ a, (k0_off1582 v1 k0_t34 v228 v257 k0_t46) a + S1x1x1x32x128.size a ≤ S2x2x8x1728x128.size a) ∧
  (∀ k0_t46 : Fin (k0_t46_loop v228 v257).trips, ∀ a, (k0_off1584 v1 k0_t34 v228 v257 k0_t46) a + S1x1x1x16x128.size a ≤ S2x2x108x128x128.size a) ∧
  (∀ k0_t46 : Fin (k0_t46_loop v228 v257).trips, ∀ (hinb : ∀ a, (k0_off1584 v1 k0_t34 v228 v257 k0_t46) a + S1x1x1x16x128.size a ≤ S2x2x108x128x128.size a), (Rect.unit (s := S2x2x108x128x128) (k0_off1584 v1 k0_t34 v228 v257 k0_t46) S1x1x1x16x128.size hinb).PackedRows (EltTy.packing .bf16)) ∧
  (∀ k0_t46 : Fin (k0_t46_loop v228 v257).trips, ∀ a, (k0_off1586 v1 k0_t34 v228 v257 k0_t46) a + S1x1x1x16x128.size a ≤ S2x2x108x128x128.size a) ∧
  (∀ k0_t46 : Fin (k0_t46_loop v228 v257).trips, ∀ (hinb : ∀ a, (k0_off1586 v1 k0_t34 v228 v257 k0_t46) a + S1x1x1x16x128.size a ≤ S2x2x108x128x128.size a), (Rect.unit (s := S2x2x108x128x128) (k0_off1586 v1 k0_t34 v228 v257 k0_t46) S1x1x1x16x128.size hinb).PackedRows (EltTy.packing .bf16))
def k0_chk21_44 (v1 : BitVec 32) (k0_t34 : Fin (k0_t34_loop v1).trips) (v228 : BitVec 32) (v257 : BitVec 32) : Prop :=
  (∀ k0_t46 : Fin (k0_t46_loop v228 v257).trips, ∀ a, (k0_off1587 v1 k0_t34 v228 v257 k0_t46) a + S1x1x1x32x128.size a ≤ S2x2x8x1728x128.size a) ∧
  (∀ k0_t46 : Fin (k0_t46_loop v228 v257).trips, ∀ a, (k0_off1589 v1 k0_t34 v228 v257 k0_t46) a + S1x1x1x16x128.size a ≤ S2x2x108x128x128.size a) ∧
  (∀ k0_t46 : Fin (k0_t46_loop v228 v257).trips, ∀ (hinb : ∀ a, (k0_off1589 v1 k0_t34 v228 v257 k0_t46) a + S1x1x1x16x128.size a ≤ S2x2x108x128x128.size a), (Rect.unit (s := S2x2x108x128x128) (k0_off1589 v1 k0_t34 v228 v257 k0_t46) S1x1x1x16x128.size hinb).PackedRows (EltTy.packing .bf16)) ∧
  (∀ k0_t46 : Fin (k0_t46_loop v228 v257).trips, ∀ a, (k0_off1591 v1 k0_t34 v228 v257 k0_t46) a + S1x1x1x16x128.size a ≤ S2x2x108x128x128.size a) ∧
  (∀ k0_t46 : Fin (k0_t46_loop v228 v257).trips, ∀ (hinb : ∀ a, (k0_off1591 v1 k0_t34 v228 v257 k0_t46) a + S1x1x1x16x128.size a ≤ S2x2x108x128x128.size a), (Rect.unit (s := S2x2x108x128x128) (k0_off1591 v1 k0_t34 v228 v257 k0_t46) S1x1x1x16x128.size hinb).PackedRows (EltTy.packing .bf16)) ∧
  (∀ k0_t46 : Fin (k0_t46_loop v228 v257).trips, ∀ a, (k0_off1592 v1 k0_t34 v228 v257 k0_t46) a + S1x1x1x32x128.size a ≤ S2x2x8x1728x128.size a) ∧
  (∀ k0_t46 : Fin (k0_t46_loop v228 v257).trips, ∀ a, (k0_off1594 v1 k0_t34 v228 v257 k0_t46) a + S1x1x1x16x128.size a ≤ S2x2x108x128x128.size a) ∧
  (∀ k0_t46 : Fin (k0_t46_loop v228 v257).trips, ∀ (hinb : ∀ a, (k0_off1594 v1 k0_t34 v228 v257 k0_t46) a + S1x1x1x16x128.size a ≤ S2x2x108x128x128.size a), (Rect.unit (s := S2x2x108x128x128) (k0_off1594 v1 k0_t34 v228 v257 k0_t46) S1x1x1x16x128.size hinb).PackedRows (EltTy.packing .bf16)) ∧
  (∀ k0_t46 : Fin (k0_t46_loop v228 v257).trips, ∀ a, (k0_off1596 v1 k0_t34 v228 v257 k0_t46) a + S1x1x1x16x128.size a ≤ S2x2x108x128x128.size a) ∧
  (∀ k0_t46 : Fin (k0_t46_loop v228 v257).trips, ∀ (hinb : ∀ a, (k0_off1596 v1 k0_t34 v228 v257 k0_t46) a + S1x1x1x16x128.size a ≤ S2x2x108x128x128.size a), (Rect.unit (s := S2x2x108x128x128) (k0_off1596 v1 k0_t34 v228 v257 k0_t46) S1x1x1x16x128.size hinb).PackedRows (EltTy.packing .bf16)) ∧
  (∀ k0_t46 : Fin (k0_t46_loop v228 v257).trips, ∀ a, (k0_off1597 v1 k0_t34 v228 v257 k0_t46) a + S1x1x1x32x128.size a ≤ S2x2x8x1728x128.size a) ∧
  (∀ k0_t46 : Fin (k0_t46_loop v228 v257).trips, ∀ a, (k0_off1599 v1 k0_t34 v228 v257 k0_t46) a + S1x1x1x16x128.size a ≤ S2x2x108x128x128.size a) ∧
  (∀ k0_t46 : Fin (k0_t46_loop v228 v257).trips, ∀ (hinb : ∀ a, (k0_off1599 v1 k0_t34 v228 v257 k0_t46) a + S1x1x1x16x128.size a ≤ S2x2x108x128x128.size a), (Rect.unit (s := S2x2x108x128x128) (k0_off1599 v1 k0_t34 v228 v257 k0_t46) S1x1x1x16x128.size hinb).PackedRows (EltTy.packing .bf16)) ∧
  (∀ k0_t46 : Fin (k0_t46_loop v228 v257).trips, ∀ a, (k0_off1601 v1 k0_t34 v228 v257 k0_t46) a + S1x1x1x16x128.size a ≤ S2x2x108x128x128.size a) ∧
  (∀ k0_t46 : Fin (k0_t46_loop v228 v257).trips, ∀ (hinb : ∀ a, (k0_off1601 v1 k0_t34 v228 v257 k0_t46) a + S1x1x1x16x128.size a ≤ S2x2x108x128x128.size a), (Rect.unit (s := S2x2x108x128x128) (k0_off1601 v1 k0_t34 v228 v257 k0_t46) S1x1x1x16x128.size hinb).PackedRows (EltTy.packing .bf16)) ∧
  (∀ k0_t46 : Fin (k0_t46_loop v228 v257).trips, ∀ a, (k0_off1602 v1 k0_t34 v228 v257 k0_t46) a + S1x1x1x32x128.size a ≤ S2x2x8x1728x128.size a) ∧
  (∀ k0_t46 : Fin (k0_t46_loop v228 v257).trips, ∀ a, (k0_off1604 v1 k0_t34 v228 v257 k0_t46) a + S1x1x1x16x128.size a ≤ S2x2x108x128x128.size a) ∧
  (∀ k0_t46 : Fin (k0_t46_loop v228 v257).trips, ∀ (hinb : ∀ a, (k0_off1604 v1 k0_t34 v228 v257 k0_t46) a + S1x1x1x16x128.size a ≤ S2x2x108x128x128.size a), (Rect.unit (s := S2x2x108x128x128) (k0_off1604 v1 k0_t34 v228 v257 k0_t46) S1x1x1x16x128.size hinb).PackedRows (EltTy.packing .bf16)) ∧
  (∀ k0_t46 : Fin (k0_t46_loop v228 v257).trips, ∀ a, (k0_off1606 v1 k0_t34 v228 v257 k0_t46) a + S1x1x1x16x128.size a ≤ S2x2x108x128x128.size a) ∧
  (∀ k0_t46 : Fin (k0_t46_loop v228 v257).trips, ∀ (hinb : ∀ a, (k0_off1606 v1 k0_t34 v228 v257 k0_t46) a + S1x1x1x16x128.size a ≤ S2x2x108x128x128.size a), (Rect.unit (s := S2x2x108x128x128) (k0_off1606 v1 k0_t34 v228 v257 k0_t46) S1x1x1x16x128.size hinb).PackedRows (EltTy.packing .bf16)) ∧
  (∀ k0_t46 : Fin (k0_t46_loop v228 v257).trips, ∀ a, (k0_off1607 v1 k0_t34 v228 v257 k0_t46) a + S1x1x1x32x128.size a ≤ S2x2x8x1728x128.size a) ∧
  (∀ k0_t46 : Fin (k0_t46_loop v228 v257).trips, ∀ a, (k0_off1609 v1 k0_t34 v228 v257 k0_t46) a + S1x1x1x16x128.size a ≤ S2x2x108x128x128.size a) ∧
  (∀ k0_t46 : Fin (k0_t46_loop v228 v257).trips, ∀ (hinb : ∀ a, (k0_off1609 v1 k0_t34 v228 v257 k0_t46) a + S1x1x1x16x128.size a ≤ S2x2x108x128x128.size a), (Rect.unit (s := S2x2x108x128x128) (k0_off1609 v1 k0_t34 v228 v257 k0_t46) S1x1x1x16x128.size hinb).PackedRows (EltTy.packing .bf16)) ∧
  (∀ k0_t46 : Fin (k0_t46_loop v228 v257).trips, ∀ a, (k0_off1611 v1 k0_t34 v228 v257 k0_t46) a + S1x1x1x16x128.size a ≤ S2x2x108x128x128.size a) ∧
  (∀ k0_t46 : Fin (k0_t46_loop v228 v257).trips, ∀ (hinb : ∀ a, (k0_off1611 v1 k0_t34 v228 v257 k0_t46) a + S1x1x1x16x128.size a ≤ S2x2x108x128x128.size a), (Rect.unit (s := S2x2x108x128x128) (k0_off1611 v1 k0_t34 v228 v257 k0_t46) S1x1x1x16x128.size hinb).PackedRows (EltTy.packing .bf16)) ∧
  (∀ k0_t46 : Fin (k0_t46_loop v228 v257).trips, ∀ a, (k0_off1612 v1 k0_t34 v228 v257 k0_t46) a + S1x1x1x32x128.size a ≤ S2x2x8x1728x128.size a) ∧
  (∀ k0_t46 : Fin (k0_t46_loop v228 v257).trips, ∀ a, (k0_off1614 v1 k0_t34 v228 v257 k0_t46) a + S1x1x1x16x128.size a ≤ S2x2x108x128x128.size a) ∧
  (∀ k0_t46 : Fin (k0_t46_loop v228 v257).trips, ∀ (hinb : ∀ a, (k0_off1614 v1 k0_t34 v228 v257 k0_t46) a + S1x1x1x16x128.size a ≤ S2x2x108x128x128.size a), (Rect.unit (s := S2x2x108x128x128) (k0_off1614 v1 k0_t34 v228 v257 k0_t46) S1x1x1x16x128.size hinb).PackedRows (EltTy.packing .bf16)) ∧
  (∀ k0_t46 : Fin (k0_t46_loop v228 v257).trips, ∀ a, (k0_off1616 v1 k0_t34 v228 v257 k0_t46) a + S1x1x1x16x128.size a ≤ S2x2x108x128x128.size a) ∧
  (∀ k0_t46 : Fin (k0_t46_loop v228 v257).trips, ∀ (hinb : ∀ a, (k0_off1616 v1 k0_t34 v228 v257 k0_t46) a + S1x1x1x16x128.size a ≤ S2x2x108x128x128.size a), (Rect.unit (s := S2x2x108x128x128) (k0_off1616 v1 k0_t34 v228 v257 k0_t46) S1x1x1x16x128.size hinb).PackedRows (EltTy.packing .bf16)) ∧
  (∀ k0_t46 : Fin (k0_t46_loop v228 v257).trips, ∀ a, (k0_off1617 v1 k0_t34 v228 v257 k0_t46) a + S1x1x1x32x128.size a ≤ S2x2x8x1728x128.size a) ∧
  (∀ k0_t46 : Fin (k0_t46_loop v228 v257).trips, ∀ a, (k0_off1619 v1 k0_t34 v228 v257 k0_t46) a + S1x1x1x16x128.size a ≤ S2x2x108x128x128.size a)
def k0_chk21_45 (v1 : BitVec 32) (k0_t34 : Fin (k0_t34_loop v1).trips) (v228 : BitVec 32) (v257 : BitVec 32) : Prop :=
  (∀ k0_t46 : Fin (k0_t46_loop v228 v257).trips, ∀ (hinb : ∀ a, (k0_off1619 v1 k0_t34 v228 v257 k0_t46) a + S1x1x1x16x128.size a ≤ S2x2x108x128x128.size a), (Rect.unit (s := S2x2x108x128x128) (k0_off1619 v1 k0_t34 v228 v257 k0_t46) S1x1x1x16x128.size hinb).PackedRows (EltTy.packing .bf16)) ∧
  (∀ k0_t46 : Fin (k0_t46_loop v228 v257).trips, ∀ a, (k0_off1621 v1 k0_t34 v228 v257 k0_t46) a + S1x1x1x16x128.size a ≤ S2x2x108x128x128.size a) ∧
  (∀ k0_t46 : Fin (k0_t46_loop v228 v257).trips, ∀ (hinb : ∀ a, (k0_off1621 v1 k0_t34 v228 v257 k0_t46) a + S1x1x1x16x128.size a ≤ S2x2x108x128x128.size a), (Rect.unit (s := S2x2x108x128x128) (k0_off1621 v1 k0_t34 v228 v257 k0_t46) S1x1x1x16x128.size hinb).PackedRows (EltTy.packing .bf16)) ∧
  (∀ k0_t46 : Fin (k0_t46_loop v228 v257).trips, ∀ a, (k0_off1622 v1 k0_t34 v228 v257 k0_t46) a + S1x1x1x32x128.size a ≤ S2x2x8x1728x128.size a) ∧
  (∀ k0_t46 : Fin (k0_t46_loop v228 v257).trips, ∀ a, (k0_off1624 v1 k0_t34 v228 v257 k0_t46) a + S1x1x1x16x128.size a ≤ S2x2x108x128x128.size a) ∧
  (∀ k0_t46 : Fin (k0_t46_loop v228 v257).trips, ∀ (hinb : ∀ a, (k0_off1624 v1 k0_t34 v228 v257 k0_t46) a + S1x1x1x16x128.size a ≤ S2x2x108x128x128.size a), (Rect.unit (s := S2x2x108x128x128) (k0_off1624 v1 k0_t34 v228 v257 k0_t46) S1x1x1x16x128.size hinb).PackedRows (EltTy.packing .bf16)) ∧
  (∀ k0_t46 : Fin (k0_t46_loop v228 v257).trips, ∀ a, (k0_off1626 v1 k0_t34 v228 v257 k0_t46) a + S1x1x1x16x128.size a ≤ S2x2x108x128x128.size a) ∧
  (∀ k0_t46 : Fin (k0_t46_loop v228 v257).trips, ∀ (hinb : ∀ a, (k0_off1626 v1 k0_t34 v228 v257 k0_t46) a + S1x1x1x16x128.size a ≤ S2x2x108x128x128.size a), (Rect.unit (s := S2x2x108x128x128) (k0_off1626 v1 k0_t34 v228 v257 k0_t46) S1x1x1x16x128.size hinb).PackedRows (EltTy.packing .bf16)) ∧
  (∀ k0_t46 : Fin (k0_t46_loop v228 v257).trips, ∀ a, (k0_off1627 v1 k0_t34 v228 v257 k0_t46) a + S1x1x1x32x128.size a ≤ S2x2x8x1728x128.size a) ∧
  (∀ k0_t46 : Fin (k0_t46_loop v228 v257).trips, ∀ a, (k0_off1629 v1 k0_t34 v228 v257 k0_t46) a + S1x1x1x16x128.size a ≤ S2x2x108x128x128.size a) ∧
  (∀ k0_t46 : Fin (k0_t46_loop v228 v257).trips, ∀ (hinb : ∀ a, (k0_off1629 v1 k0_t34 v228 v257 k0_t46) a + S1x1x1x16x128.size a ≤ S2x2x108x128x128.size a), (Rect.unit (s := S2x2x108x128x128) (k0_off1629 v1 k0_t34 v228 v257 k0_t46) S1x1x1x16x128.size hinb).PackedRows (EltTy.packing .bf16)) ∧
  (∀ k0_t46 : Fin (k0_t46_loop v228 v257).trips, ∀ a, (k0_off1631 v1 k0_t34 v228 v257 k0_t46) a + S1x1x1x16x128.size a ≤ S2x2x108x128x128.size a) ∧
  (∀ k0_t46 : Fin (k0_t46_loop v228 v257).trips, ∀ (hinb : ∀ a, (k0_off1631 v1 k0_t34 v228 v257 k0_t46) a + S1x1x1x16x128.size a ≤ S2x2x108x128x128.size a), (Rect.unit (s := S2x2x108x128x128) (k0_off1631 v1 k0_t34 v228 v257 k0_t46) S1x1x1x16x128.size hinb).PackedRows (EltTy.packing .bf16)) ∧
  (∀ k0_t46 : Fin (k0_t46_loop v228 v257).trips, ∀ a, (k0_off1632 v1 k0_t34 v228 v257 k0_t46) a + S1x1x1x32x128.size a ≤ S2x2x8x1728x128.size a) ∧
  (∀ k0_t46 : Fin (k0_t46_loop v228 v257).trips, ∀ a, (k0_off1634 v1 k0_t34 v228 v257 k0_t46) a + S1x1x1x16x128.size a ≤ S2x2x108x128x128.size a) ∧
  (∀ k0_t46 : Fin (k0_t46_loop v228 v257).trips, ∀ (hinb : ∀ a, (k0_off1634 v1 k0_t34 v228 v257 k0_t46) a + S1x1x1x16x128.size a ≤ S2x2x108x128x128.size a), (Rect.unit (s := S2x2x108x128x128) (k0_off1634 v1 k0_t34 v228 v257 k0_t46) S1x1x1x16x128.size hinb).PackedRows (EltTy.packing .bf16)) ∧
  (∀ k0_t46 : Fin (k0_t46_loop v228 v257).trips, ∀ a, (k0_off1636 v1 k0_t34 v228 v257 k0_t46) a + S1x1x1x16x128.size a ≤ S2x2x108x128x128.size a) ∧
  (∀ k0_t46 : Fin (k0_t46_loop v228 v257).trips, ∀ (hinb : ∀ a, (k0_off1636 v1 k0_t34 v228 v257 k0_t46) a + S1x1x1x16x128.size a ≤ S2x2x108x128x128.size a), (Rect.unit (s := S2x2x108x128x128) (k0_off1636 v1 k0_t34 v228 v257 k0_t46) S1x1x1x16x128.size hinb).PackedRows (EltTy.packing .bf16)) ∧
  (∀ k0_t46 : Fin (k0_t46_loop v228 v257).trips, ∀ a, (k0_off1637 v1 k0_t34 v228 v257 k0_t46) a + S1x1x1x32x128.size a ≤ S2x2x8x1728x128.size a) ∧
  (∀ k0_t46 : Fin (k0_t46_loop v228 v257).trips, ∀ a, (k0_off1639 v1 k0_t34 v228 v257 k0_t46) a + S1x1x1x16x128.size a ≤ S2x2x108x128x128.size a) ∧
  (∀ k0_t46 : Fin (k0_t46_loop v228 v257).trips, ∀ (hinb : ∀ a, (k0_off1639 v1 k0_t34 v228 v257 k0_t46) a + S1x1x1x16x128.size a ≤ S2x2x108x128x128.size a), (Rect.unit (s := S2x2x108x128x128) (k0_off1639 v1 k0_t34 v228 v257 k0_t46) S1x1x1x16x128.size hinb).PackedRows (EltTy.packing .bf16)) ∧
  (∀ k0_t46 : Fin (k0_t46_loop v228 v257).trips, ∀ a, (k0_off1641 v1 k0_t34 v228 v257 k0_t46) a + S1x1x1x16x128.size a ≤ S2x2x108x128x128.size a) ∧
  (∀ k0_t46 : Fin (k0_t46_loop v228 v257).trips, ∀ (hinb : ∀ a, (k0_off1641 v1 k0_t34 v228 v257 k0_t46) a + S1x1x1x16x128.size a ≤ S2x2x108x128x128.size a), (Rect.unit (s := S2x2x108x128x128) (k0_off1641 v1 k0_t34 v228 v257 k0_t46) S1x1x1x16x128.size hinb).PackedRows (EltTy.packing .bf16)) ∧
  (∀ k0_t46 : Fin (k0_t46_loop v228 v257).trips, ∀ a, (k0_off1642 v1 k0_t34 v228 v257 k0_t46) a + S1x1x1x32x128.size a ≤ S2x2x8x1728x128.size a) ∧
  (∀ k0_t46 : Fin (k0_t46_loop v228 v257).trips, ∀ a, (k0_off1644 v1 k0_t34 v228 v257 k0_t46) a + S1x1x1x16x128.size a ≤ S2x2x108x128x128.size a) ∧
  (∀ k0_t46 : Fin (k0_t46_loop v228 v257).trips, ∀ (hinb : ∀ a, (k0_off1644 v1 k0_t34 v228 v257 k0_t46) a + S1x1x1x16x128.size a ≤ S2x2x108x128x128.size a), (Rect.unit (s := S2x2x108x128x128) (k0_off1644 v1 k0_t34 v228 v257 k0_t46) S1x1x1x16x128.size hinb).PackedRows (EltTy.packing .bf16)) ∧
  (∀ k0_t46 : Fin (k0_t46_loop v228 v257).trips, ∀ a, (k0_off1646 v1 k0_t34 v228 v257 k0_t46) a + S1x1x1x16x128.size a ≤ S2x2x108x128x128.size a) ∧
  (∀ k0_t46 : Fin (k0_t46_loop v228 v257).trips, ∀ (hinb : ∀ a, (k0_off1646 v1 k0_t34 v228 v257 k0_t46) a + S1x1x1x16x128.size a ≤ S2x2x108x128x128.size a), (Rect.unit (s := S2x2x108x128x128) (k0_off1646 v1 k0_t34 v228 v257 k0_t46) S1x1x1x16x128.size hinb).PackedRows (EltTy.packing .bf16)) ∧
  (∀ k0_t46 : Fin (k0_t46_loop v228 v257).trips, ∀ a, (k0_off1647 v1 k0_t34 v228 v257 k0_t46) a + S1x1x1x32x128.size a ≤ S2x2x8x1728x128.size a) ∧
  (∀ k0_t46 : Fin (k0_t46_loop v228 v257).trips, ∀ a, (k0_off1649 v1 k0_t34 v228 v257 k0_t46) a + S1x1x1x16x128.size a ≤ S2x2x108x128x128.size a) ∧
  (∀ k0_t46 : Fin (k0_t46_loop v228 v257).trips, ∀ (hinb : ∀ a, (k0_off1649 v1 k0_t34 v228 v257 k0_t46) a + S1x1x1x16x128.size a ≤ S2x2x108x128x128.size a), (Rect.unit (s := S2x2x108x128x128) (k0_off1649 v1 k0_t34 v228 v257 k0_t46) S1x1x1x16x128.size hinb).PackedRows (EltTy.packing .bf16)) ∧
  (∀ k0_t46 : Fin (k0_t46_loop v228 v257).trips, ∀ a, (k0_off1651 v1 k0_t34 v228 v257 k0_t46) a + S1x1x1x16x128.size a ≤ S2x2x108x128x128.size a)
def k0_chk21_46 (v1 : BitVec 32) (k0_t34 : Fin (k0_t34_loop v1).trips) (v228 : BitVec 32) (v257 : BitVec 32) : Prop :=
  (∀ k0_t46 : Fin (k0_t46_loop v228 v257).trips, ∀ (hinb : ∀ a, (k0_off1651 v1 k0_t34 v228 v257 k0_t46) a + S1x1x1x16x128.size a ≤ S2x2x108x128x128.size a), (Rect.unit (s := S2x2x108x128x128) (k0_off1651 v1 k0_t34 v228 v257 k0_t46) S1x1x1x16x128.size hinb).PackedRows (EltTy.packing .bf16)) ∧
  (∀ k0_t46 : Fin (k0_t46_loop v228 v257).trips, ∀ a, (k0_off1652 v1 k0_t34 v228 v257 k0_t46) a + S1x1x1x32x128.size a ≤ S2x2x8x1728x128.size a) ∧
  (∀ k0_t46 : Fin (k0_t46_loop v228 v257).trips, ∀ a, (k0_off1654 v1 k0_t34 v228 v257 k0_t46) a + S1x1x1x16x128.size a ≤ S2x2x108x128x128.size a) ∧
  (∀ k0_t46 : Fin (k0_t46_loop v228 v257).trips, ∀ (hinb : ∀ a, (k0_off1654 v1 k0_t34 v228 v257 k0_t46) a + S1x1x1x16x128.size a ≤ S2x2x108x128x128.size a), (Rect.unit (s := S2x2x108x128x128) (k0_off1654 v1 k0_t34 v228 v257 k0_t46) S1x1x1x16x128.size hinb).PackedRows (EltTy.packing .bf16)) ∧
  (∀ k0_t46 : Fin (k0_t46_loop v228 v257).trips, ∀ a, (k0_off1656 v1 k0_t34 v228 v257 k0_t46) a + S1x1x1x16x128.size a ≤ S2x2x108x128x128.size a) ∧
  (∀ k0_t46 : Fin (k0_t46_loop v228 v257).trips, ∀ (hinb : ∀ a, (k0_off1656 v1 k0_t34 v228 v257 k0_t46) a + S1x1x1x16x128.size a ≤ S2x2x108x128x128.size a), (Rect.unit (s := S2x2x108x128x128) (k0_off1656 v1 k0_t34 v228 v257 k0_t46) S1x1x1x16x128.size hinb).PackedRows (EltTy.packing .bf16)) ∧
  (∀ k0_t46 : Fin (k0_t46_loop v228 v257).trips, ∀ a, (k0_off1657 v1 k0_t34 v228 v257 k0_t46) a + S1x1x1x32x128.size a ≤ S2x2x8x1728x128.size a) ∧
  (∀ k0_t46 : Fin (k0_t46_loop v228 v257).trips, ∀ a, (k0_off1659 v1 k0_t34 v228 v257 k0_t46) a + S1x1x1x16x128.size a ≤ S2x2x108x128x128.size a) ∧
  (∀ k0_t46 : Fin (k0_t46_loop v228 v257).trips, ∀ (hinb : ∀ a, (k0_off1659 v1 k0_t34 v228 v257 k0_t46) a + S1x1x1x16x128.size a ≤ S2x2x108x128x128.size a), (Rect.unit (s := S2x2x108x128x128) (k0_off1659 v1 k0_t34 v228 v257 k0_t46) S1x1x1x16x128.size hinb).PackedRows (EltTy.packing .bf16)) ∧
  (∀ k0_t46 : Fin (k0_t46_loop v228 v257).trips, ∀ a, (k0_off1661 v1 k0_t34 v228 v257 k0_t46) a + S1x1x1x16x128.size a ≤ S2x2x108x128x128.size a) ∧
  (∀ k0_t46 : Fin (k0_t46_loop v228 v257).trips, ∀ (hinb : ∀ a, (k0_off1661 v1 k0_t34 v228 v257 k0_t46) a + S1x1x1x16x128.size a ≤ S2x2x108x128x128.size a), (Rect.unit (s := S2x2x108x128x128) (k0_off1661 v1 k0_t34 v228 v257 k0_t46) S1x1x1x16x128.size hinb).PackedRows (EltTy.packing .bf16)) ∧
  (∀ k0_t46 : Fin (k0_t46_loop v228 v257).trips, ∀ a, (k0_off1662 v1 k0_t34 v228 v257 k0_t46) a + S1x1x1x32x128.size a ≤ S2x2x8x1728x128.size a) ∧
  (∀ k0_t46 : Fin (k0_t46_loop v228 v257).trips, ∀ a, (k0_off1664 v1 k0_t34 v228 v257 k0_t46) a + S1x1x1x16x128.size a ≤ S2x2x108x128x128.size a) ∧
  (∀ k0_t46 : Fin (k0_t46_loop v228 v257).trips, ∀ (hinb : ∀ a, (k0_off1664 v1 k0_t34 v228 v257 k0_t46) a + S1x1x1x16x128.size a ≤ S2x2x108x128x128.size a), (Rect.unit (s := S2x2x108x128x128) (k0_off1664 v1 k0_t34 v228 v257 k0_t46) S1x1x1x16x128.size hinb).PackedRows (EltTy.packing .bf16)) ∧
  (∀ k0_t46 : Fin (k0_t46_loop v228 v257).trips, ∀ a, (k0_off1666 v1 k0_t34 v228 v257 k0_t46) a + S1x1x1x16x128.size a ≤ S2x2x108x128x128.size a) ∧
  (∀ k0_t46 : Fin (k0_t46_loop v228 v257).trips, ∀ (hinb : ∀ a, (k0_off1666 v1 k0_t34 v228 v257 k0_t46) a + S1x1x1x16x128.size a ≤ S2x2x108x128x128.size a), (Rect.unit (s := S2x2x108x128x128) (k0_off1666 v1 k0_t34 v228 v257 k0_t46) S1x1x1x16x128.size hinb).PackedRows (EltTy.packing .bf16)) ∧
  (∀ k0_t46 : Fin (k0_t46_loop v228 v257).trips, ∀ a, (k0_off1667 v1 k0_t34 v228 v257 k0_t46) a + S1x1x1x32x128.size a ≤ S2x2x8x1728x128.size a) ∧
  (∀ k0_t46 : Fin (k0_t46_loop v228 v257).trips, ∀ a, (k0_off1669 v1 k0_t34 v228 v257 k0_t46) a + S1x1x1x16x128.size a ≤ S2x2x108x128x128.size a) ∧
  (∀ k0_t46 : Fin (k0_t46_loop v228 v257).trips, ∀ (hinb : ∀ a, (k0_off1669 v1 k0_t34 v228 v257 k0_t46) a + S1x1x1x16x128.size a ≤ S2x2x108x128x128.size a), (Rect.unit (s := S2x2x108x128x128) (k0_off1669 v1 k0_t34 v228 v257 k0_t46) S1x1x1x16x128.size hinb).PackedRows (EltTy.packing .bf16)) ∧
  (∀ k0_t46 : Fin (k0_t46_loop v228 v257).trips, ∀ a, (k0_off1671 v1 k0_t34 v228 v257 k0_t46) a + S1x1x1x16x128.size a ≤ S2x2x108x128x128.size a) ∧
  (∀ k0_t46 : Fin (k0_t46_loop v228 v257).trips, ∀ (hinb : ∀ a, (k0_off1671 v1 k0_t34 v228 v257 k0_t46) a + S1x1x1x16x128.size a ≤ S2x2x108x128x128.size a), (Rect.unit (s := S2x2x108x128x128) (k0_off1671 v1 k0_t34 v228 v257 k0_t46) S1x1x1x16x128.size hinb).PackedRows (EltTy.packing .bf16)) ∧
  (∀ k0_t46 : Fin (k0_t46_loop v228 v257).trips, ∀ a, (k0_off1672 v1 k0_t34 v228 v257 k0_t46) a + S1x1x1x32x128.size a ≤ S2x2x8x1728x128.size a) ∧
  (∀ k0_t46 : Fin (k0_t46_loop v228 v257).trips, ∀ a, (k0_off1674 v1 k0_t34 v228 v257 k0_t46) a + S1x1x1x16x128.size a ≤ S2x2x108x128x128.size a) ∧
  (∀ k0_t46 : Fin (k0_t46_loop v228 v257).trips, ∀ (hinb : ∀ a, (k0_off1674 v1 k0_t34 v228 v257 k0_t46) a + S1x1x1x16x128.size a ≤ S2x2x108x128x128.size a), (Rect.unit (s := S2x2x108x128x128) (k0_off1674 v1 k0_t34 v228 v257 k0_t46) S1x1x1x16x128.size hinb).PackedRows (EltTy.packing .bf16)) ∧
  (∀ k0_t46 : Fin (k0_t46_loop v228 v257).trips, ∀ a, (k0_off1676 v1 k0_t34 v228 v257 k0_t46) a + S1x1x1x16x128.size a ≤ S2x2x108x128x128.size a) ∧
  (∀ k0_t46 : Fin (k0_t46_loop v228 v257).trips, ∀ (hinb : ∀ a, (k0_off1676 v1 k0_t34 v228 v257 k0_t46) a + S1x1x1x16x128.size a ≤ S2x2x108x128x128.size a), (Rect.unit (s := S2x2x108x128x128) (k0_off1676 v1 k0_t34 v228 v257 k0_t46) S1x1x1x16x128.size hinb).PackedRows (EltTy.packing .bf16)) ∧
  (∀ k0_t46 : Fin (k0_t46_loop v228 v257).trips, ∀ a, (k0_off1677 v1 k0_t34 v228 v257 k0_t46) a + S1x1x1x32x128.size a ≤ S2x2x8x1728x128.size a) ∧
  (∀ k0_t46 : Fin (k0_t46_loop v228 v257).trips, ∀ a, (k0_off1679 v1 k0_t34 v228 v257 k0_t46) a + S1x1x1x16x128.size a ≤ S2x2x108x128x128.size a) ∧
  (∀ k0_t46 : Fin (k0_t46_loop v228 v257).trips, ∀ (hinb : ∀ a, (k0_off1679 v1 k0_t34 v228 v257 k0_t46) a + S1x1x1x16x128.size a ≤ S2x2x108x128x128.size a), (Rect.unit (s := S2x2x108x128x128) (k0_off1679 v1 k0_t34 v228 v257 k0_t46) S1x1x1x16x128.size hinb).PackedRows (EltTy.packing .bf16)) ∧
  (∀ k0_t46 : Fin (k0_t46_loop v228 v257).trips, ∀ a, (k0_off1681 v1 k0_t34 v228 v257 k0_t46) a + S1x1x1x16x128.size a ≤ S2x2x108x128x128.size a) ∧
  (∀ k0_t46 : Fin (k0_t46_loop v228 v257).trips, ∀ (hinb : ∀ a, (k0_off1681 v1 k0_t34 v228 v257 k0_t46) a + S1x1x1x16x128.size a ≤ S2x2x108x128x128.size a), (Rect.unit (s := S2x2x108x128x128) (k0_off1681 v1 k0_t34 v228 v257 k0_t46) S1x1x1x16x128.size hinb).PackedRows (EltTy.packing .bf16)) ∧
  (∀ k0_t46 : Fin (k0_t46_loop v228 v257).trips, ∀ a, (k0_off1682 v1 k0_t34 v228 v257 k0_t46) a + S1x1x1x32x128.size a ≤ S2x2x8x1728x128.size a)
def k0_chk21_47 (v1 : BitVec 32) (k0_t34 : Fin (k0_t34_loop v1).trips) (v228 : BitVec 32) (v257 : BitVec 32) : Prop :=
  (∀ k0_t46 : Fin (k0_t46_loop v228 v257).trips, ∀ a, (k0_off1684 v1 k0_t34 v228 v257 k0_t46) a + S1x1x1x16x128.size a ≤ S2x2x108x128x128.size a) ∧
  (∀ k0_t46 : Fin (k0_t46_loop v228 v257).trips, ∀ (hinb : ∀ a, (k0_off1684 v1 k0_t34 v228 v257 k0_t46) a + S1x1x1x16x128.size a ≤ S2x2x108x128x128.size a), (Rect.unit (s := S2x2x108x128x128) (k0_off1684 v1 k0_t34 v228 v257 k0_t46) S1x1x1x16x128.size hinb).PackedRows (EltTy.packing .bf16)) ∧
  (∀ k0_t46 : Fin (k0_t46_loop v228 v257).trips, ∀ a, (k0_off1686 v1 k0_t34 v228 v257 k0_t46) a + S1x1x1x16x128.size a ≤ S2x2x108x128x128.size a) ∧
  (∀ k0_t46 : Fin (k0_t46_loop v228 v257).trips, ∀ (hinb : ∀ a, (k0_off1686 v1 k0_t34 v228 v257 k0_t46) a + S1x1x1x16x128.size a ≤ S2x2x108x128x128.size a), (Rect.unit (s := S2x2x108x128x128) (k0_off1686 v1 k0_t34 v228 v257 k0_t46) S1x1x1x16x128.size hinb).PackedRows (EltTy.packing .bf16)) ∧
  (∀ k0_t46 : Fin (k0_t46_loop v228 v257).trips, ∀ a, (k0_off1687 v1 k0_t34 v228 v257 k0_t46) a + S1x1x1x32x128.size a ≤ S2x2x8x1728x128.size a) ∧
  (∀ k0_t46 : Fin (k0_t46_loop v228 v257).trips, ∀ a, (k0_off1689 v1 k0_t34 v228 v257 k0_t46) a + S1x1x1x16x128.size a ≤ S2x2x108x128x128.size a) ∧
  (∀ k0_t46 : Fin (k0_t46_loop v228 v257).trips, ∀ (hinb : ∀ a, (k0_off1689 v1 k0_t34 v228 v257 k0_t46) a + S1x1x1x16x128.size a ≤ S2x2x108x128x128.size a), (Rect.unit (s := S2x2x108x128x128) (k0_off1689 v1 k0_t34 v228 v257 k0_t46) S1x1x1x16x128.size hinb).PackedRows (EltTy.packing .bf16)) ∧
  (∀ k0_t46 : Fin (k0_t46_loop v228 v257).trips, ∀ a, (k0_off1691 v1 k0_t34 v228 v257 k0_t46) a + S1x1x1x16x128.size a ≤ S2x2x108x128x128.size a) ∧
  (∀ k0_t46 : Fin (k0_t46_loop v228 v257).trips, ∀ (hinb : ∀ a, (k0_off1691 v1 k0_t34 v228 v257 k0_t46) a + S1x1x1x16x128.size a ≤ S2x2x108x128x128.size a), (Rect.unit (s := S2x2x108x128x128) (k0_off1691 v1 k0_t34 v228 v257 k0_t46) S1x1x1x16x128.size hinb).PackedRows (EltTy.packing .bf16)) ∧
  (∀ k0_t46 : Fin (k0_t46_loop v228 v257).trips, ∀ a, (k0_off1692 v1 k0_t34 v228 v257 k0_t46) a + S1x1x1x32x128.size a ≤ S2x2x8x1728x128.size a) ∧
  (∀ k0_t46 : Fin (k0_t46_loop v228 v257).trips, ∀ a, (k0_off1694 v1 k0_t34 v228 v257 k0_t46) a + S1x1x1x16x128.size a ≤ S2x2x108x128x128.size a) ∧
  (∀ k0_t46 : Fin (k0_t46_loop v228 v257).trips, ∀ (hinb : ∀ a, (k0_off1694 v1 k0_t34 v228 v257 k0_t46) a + S1x1x1x16x128.size a ≤ S2x2x108x128x128.size a), (Rect.unit (s := S2x2x108x128x128) (k0_off1694 v1 k0_t34 v228 v257 k0_t46) S1x1x1x16x128.size hinb).PackedRows (EltTy.packing .bf16)) ∧
  (∀ k0_t46 : Fin (k0_t46_loop v228 v257).trips, ∀ a, (k0_off1696 v1 k0_t34 v228 v257 k0_t46) a + S1x1x1x16x128.size a ≤ S2x2x108x128x128.size a) ∧
  (∀ k0_t46 : Fin (k0_t46_loop v228 v257).trips, ∀ (hinb : ∀ a, (k0_off1696 v1 k0_t34 v228 v257 k0_t46) a + S1x1x1x16x128.size a ≤ S2x2x108x128x128.size a), (Rect.unit (s := S2x2x108x128x128) (k0_off1696 v1 k0_t34 v228 v257 k0_t46) S1x1x1x16x128.size hinb).PackedRows (EltTy.packing .bf16)) ∧
  (∀ k0_t46 : Fin (k0_t46_loop v228 v257).trips, ∀ a, (k0_off1697 v1 k0_t34 v228 v257 k0_t46) a + S1x1x1x32x128.size a ≤ S2x2x8x1728x128.size a) ∧
  (∀ k0_t46 : Fin (k0_t46_loop v228 v257).trips, ∀ a, (k0_off1699 v1 k0_t34 v228 v257 k0_t46) a + S1x1x1x16x128.size a ≤ S2x2x108x128x128.size a) ∧
  (∀ k0_t46 : Fin (k0_t46_loop v228 v257).trips, ∀ (hinb : ∀ a, (k0_off1699 v1 k0_t34 v228 v257 k0_t46) a + S1x1x1x16x128.size a ≤ S2x2x108x128x128.size a), (Rect.unit (s := S2x2x108x128x128) (k0_off1699 v1 k0_t34 v228 v257 k0_t46) S1x1x1x16x128.size hinb).PackedRows (EltTy.packing .bf16)) ∧
  (∀ k0_t46 : Fin (k0_t46_loop v228 v257).trips, ∀ a, (k0_off1701 v1 k0_t34 v228 v257 k0_t46) a + S1x1x1x16x128.size a ≤ S2x2x108x128x128.size a) ∧
  (∀ k0_t46 : Fin (k0_t46_loop v228 v257).trips, ∀ (hinb : ∀ a, (k0_off1701 v1 k0_t34 v228 v257 k0_t46) a + S1x1x1x16x128.size a ≤ S2x2x108x128x128.size a), (Rect.unit (s := S2x2x108x128x128) (k0_off1701 v1 k0_t34 v228 v257 k0_t46) S1x1x1x16x128.size hinb).PackedRows (EltTy.packing .bf16)) ∧
  (∀ k0_t46 : Fin (k0_t46_loop v228 v257).trips, ∀ a, (k0_off1702 v1 k0_t34 v228 v257 k0_t46) a + S1x1x1x32x128.size a ≤ S2x2x8x1728x128.size a) ∧
  (∀ k0_t46 : Fin (k0_t46_loop v228 v257).trips, ∀ a, (k0_off1704 v1 k0_t34 v228 v257 k0_t46) a + S1x1x1x16x128.size a ≤ S2x2x108x128x128.size a) ∧
  (∀ k0_t46 : Fin (k0_t46_loop v228 v257).trips, ∀ (hinb : ∀ a, (k0_off1704 v1 k0_t34 v228 v257 k0_t46) a + S1x1x1x16x128.size a ≤ S2x2x108x128x128.size a), (Rect.unit (s := S2x2x108x128x128) (k0_off1704 v1 k0_t34 v228 v257 k0_t46) S1x1x1x16x128.size hinb).PackedRows (EltTy.packing .bf16)) ∧
  (∀ k0_t46 : Fin (k0_t46_loop v228 v257).trips, ∀ a, (k0_off1706 v1 k0_t34 v228 v257 k0_t46) a + S1x1x1x16x128.size a ≤ S2x2x108x128x128.size a) ∧
  (∀ k0_t46 : Fin (k0_t46_loop v228 v257).trips, ∀ (hinb : ∀ a, (k0_off1706 v1 k0_t34 v228 v257 k0_t46) a + S1x1x1x16x128.size a ≤ S2x2x108x128x128.size a), (Rect.unit (s := S2x2x108x128x128) (k0_off1706 v1 k0_t34 v228 v257 k0_t46) S1x1x1x16x128.size hinb).PackedRows (EltTy.packing .bf16)) ∧
  (∀ k0_t46 : Fin (k0_t46_loop v228 v257).trips, ∀ a, (k0_off1707 v1 k0_t34 v228 v257 k0_t46) a + S1x1x1x32x128.size a ≤ S2x2x8x1728x128.size a) ∧
  (∀ k0_t46 : Fin (k0_t46_loop v228 v257).trips, ∀ a, (k0_off1709 v1 k0_t34 v228 v257 k0_t46) a + S1x1x1x16x128.size a ≤ S2x2x108x128x128.size a) ∧
  (∀ k0_t46 : Fin (k0_t46_loop v228 v257).trips, ∀ (hinb : ∀ a, (k0_off1709 v1 k0_t34 v228 v257 k0_t46) a + S1x1x1x16x128.size a ≤ S2x2x108x128x128.size a), (Rect.unit (s := S2x2x108x128x128) (k0_off1709 v1 k0_t34 v228 v257 k0_t46) S1x1x1x16x128.size hinb).PackedRows (EltTy.packing .bf16)) ∧
  (∀ k0_t46 : Fin (k0_t46_loop v228 v257).trips, ∀ a, (k0_off1711 v1 k0_t34 v228 v257 k0_t46) a + S1x1x1x16x128.size a ≤ S2x2x108x128x128.size a) ∧
  (∀ k0_t46 : Fin (k0_t46_loop v228 v257).trips, ∀ (hinb : ∀ a, (k0_off1711 v1 k0_t34 v228 v257 k0_t46) a + S1x1x1x16x128.size a ≤ S2x2x108x128x128.size a), (Rect.unit (s := S2x2x108x128x128) (k0_off1711 v1 k0_t34 v228 v257 k0_t46) S1x1x1x16x128.size hinb).PackedRows (EltTy.packing .bf16)) ∧
  (∀ k0_t46 : Fin (k0_t46_loop v228 v257).trips, ∀ a, (k0_off1712 v1 k0_t34 v228 v257 k0_t46) a + S1x1x1x32x128.size a ≤ S2x2x8x1728x128.size a) ∧
  (∀ k0_t46 : Fin (k0_t46_loop v228 v257).trips, ∀ a, (k0_off1714 v1 k0_t34 v228 v257 k0_t46) a + S1x1x1x16x128.size a ≤ S2x2x108x128x128.size a) ∧
  (∀ k0_t46 : Fin (k0_t46_loop v228 v257).trips, ∀ (hinb : ∀ a, (k0_off1714 v1 k0_t34 v228 v257 k0_t46) a + S1x1x1x16x128.size a ≤ S2x2x108x128x128.size a), (Rect.unit (s := S2x2x108x128x128) (k0_off1714 v1 k0_t34 v228 v257 k0_t46) S1x1x1x16x128.size hinb).PackedRows (EltTy.packing .bf16))
def k0_chk21_48 (v1 : BitVec 32) (k0_t34 : Fin (k0_t34_loop v1).trips) (v228 : BitVec 32) (v257 : BitVec 32) : Prop :=
  (∀ k0_t46 : Fin (k0_t46_loop v228 v257).trips, ∀ a, (k0_off1716 v1 k0_t34 v228 v257 k0_t46) a + S1x1x1x16x128.size a ≤ S2x2x108x128x128.size a) ∧
  (∀ k0_t46 : Fin (k0_t46_loop v228 v257).trips, ∀ (hinb : ∀ a, (k0_off1716 v1 k0_t34 v228 v257 k0_t46) a + S1x1x1x16x128.size a ≤ S2x2x108x128x128.size a), (Rect.unit (s := S2x2x108x128x128) (k0_off1716 v1 k0_t34 v228 v257 k0_t46) S1x1x1x16x128.size hinb).PackedRows (EltTy.packing .bf16)) ∧
  (∀ k0_t46 : Fin (k0_t46_loop v228 v257).trips, ∀ a, (k0_off1717 v1 k0_t34 v228 v257 k0_t46) a + S1x1x1x32x128.size a ≤ S2x2x8x1728x128.size a) ∧
  (∀ k0_t46 : Fin (k0_t46_loop v228 v257).trips, ∀ a, (k0_off1719 v1 k0_t34 v228 v257 k0_t46) a + S1x1x1x16x128.size a ≤ S2x2x108x128x128.size a) ∧
  (∀ k0_t46 : Fin (k0_t46_loop v228 v257).trips, ∀ (hinb : ∀ a, (k0_off1719 v1 k0_t34 v228 v257 k0_t46) a + S1x1x1x16x128.size a ≤ S2x2x108x128x128.size a), (Rect.unit (s := S2x2x108x128x128) (k0_off1719 v1 k0_t34 v228 v257 k0_t46) S1x1x1x16x128.size hinb).PackedRows (EltTy.packing .bf16)) ∧
  (∀ k0_t46 : Fin (k0_t46_loop v228 v257).trips, ∀ a, (k0_off1721 v1 k0_t34 v228 v257 k0_t46) a + S1x1x1x16x128.size a ≤ S2x2x108x128x128.size a) ∧
  (∀ k0_t46 : Fin (k0_t46_loop v228 v257).trips, ∀ (hinb : ∀ a, (k0_off1721 v1 k0_t34 v228 v257 k0_t46) a + S1x1x1x16x128.size a ≤ S2x2x108x128x128.size a), (Rect.unit (s := S2x2x108x128x128) (k0_off1721 v1 k0_t34 v228 v257 k0_t46) S1x1x1x16x128.size hinb).PackedRows (EltTy.packing .bf16)) ∧
  (∀ k0_t46 : Fin (k0_t46_loop v228 v257).trips, ∀ a, (k0_off1722 v1 k0_t34 v228 v257 k0_t46) a + S1x1x1x32x128.size a ≤ S2x2x8x1728x128.size a) ∧
  (∀ k0_t46 : Fin (k0_t46_loop v228 v257).trips, ∀ a, (k0_off1724 v1 k0_t34 v228 v257 k0_t46) a + S1x1x1x16x128.size a ≤ S2x2x108x128x128.size a) ∧
  (∀ k0_t46 : Fin (k0_t46_loop v228 v257).trips, ∀ (hinb : ∀ a, (k0_off1724 v1 k0_t34 v228 v257 k0_t46) a + S1x1x1x16x128.size a ≤ S2x2x108x128x128.size a), (Rect.unit (s := S2x2x108x128x128) (k0_off1724 v1 k0_t34 v228 v257 k0_t46) S1x1x1x16x128.size hinb).PackedRows (EltTy.packing .bf16)) ∧
  (∀ k0_t46 : Fin (k0_t46_loop v228 v257).trips, ∀ a, (k0_off1726 v1 k0_t34 v228 v257 k0_t46) a + S1x1x1x16x128.size a ≤ S2x2x108x128x128.size a) ∧
  (∀ k0_t46 : Fin (k0_t46_loop v228 v257).trips, ∀ (hinb : ∀ a, (k0_off1726 v1 k0_t34 v228 v257 k0_t46) a + S1x1x1x16x128.size a ≤ S2x2x108x128x128.size a), (Rect.unit (s := S2x2x108x128x128) (k0_off1726 v1 k0_t34 v228 v257 k0_t46) S1x1x1x16x128.size hinb).PackedRows (EltTy.packing .bf16)) ∧
  ((k0_t47_loop v228 v257).OK) ∧
  (∀ k0_t47 : Fin (k0_t47_loop v228 v257).trips, 16 ∣ (k0_mult14 v228 v257 k0_t47).toNat) ∧
  (∀ k0_t47 : Fin (k0_t47_loop v228 v257).trips, ∀ a, (k0_off1727 v1 k0_t34 v228 v257 k0_t47) a + S1x1x1x16x128.size a ≤ S2x2x108x128x128.size a) ∧
  (∀ k0_t47 : Fin (k0_t47_loop v228 v257).trips, ∀ (hinb : ∀ a, (k0_off1727 v1 k0_t34 v228 v257 k0_t47) a + S1x1x1x16x128.size a ≤ S2x2x108x128x128.size a), (Rect.unit (s := S2x2x108x128x128) (k0_off1727 v1 k0_t34 v228 v257 k0_t47) S1x1x1x16x128.size hinb).PackedRows (EltTy.packing .bf16)) ∧
  (∀ k0_t47 : Fin (k0_t47_loop v228 v257).trips, ∀ a, (k0_off1728 v1 k0_t34 v228 v257 k0_t47) a + S1x1x1x16x128.size a ≤ S2x2x108x128x128.size a) ∧
  (∀ k0_t47 : Fin (k0_t47_loop v228 v257).trips, ∀ (hinb : ∀ a, (k0_off1728 v1 k0_t34 v228 v257 k0_t47) a + S1x1x1x16x128.size a ≤ S2x2x108x128x128.size a), (Rect.unit (s := S2x2x108x128x128) (k0_off1728 v1 k0_t34 v228 v257 k0_t47) S1x1x1x16x128.size hinb).PackedRows (EltTy.packing .bf16)) ∧
  (∀ k0_t47 : Fin (k0_t47_loop v228 v257).trips, ∀ a, (k0_off1729 v1 k0_t34 v228 v257 k0_t47) a + S1x1x1x16x128.size a ≤ S2x2x108x128x128.size a) ∧
  (∀ k0_t47 : Fin (k0_t47_loop v228 v257).trips, ∀ (hinb : ∀ a, (k0_off1729 v1 k0_t34 v228 v257 k0_t47) a + S1x1x1x16x128.size a ≤ S2x2x108x128x128.size a), (Rect.unit (s := S2x2x108x128x128) (k0_off1729 v1 k0_t34 v228 v257 k0_t47) S1x1x1x16x128.size hinb).PackedRows (EltTy.packing .bf16)) ∧
  (∀ k0_t47 : Fin (k0_t47_loop v228 v257).trips, ∀ a, (k0_off1730 v1 k0_t34 v228 v257 k0_t47) a + S1x1x1x16x128.size a ≤ S2x2x108x128x128.size a) ∧
  (∀ k0_t47 : Fin (k0_t47_loop v228 v257).trips, ∀ (hinb : ∀ a, (k0_off1730 v1 k0_t34 v228 v257 k0_t47) a + S1x1x1x16x128.size a ≤ S2x2x108x128x128.size a), (Rect.unit (s := S2x2x108x128x128) (k0_off1730 v1 k0_t34 v228 v257 k0_t47) S1x1x1x16x128.size hinb).PackedRows (EltTy.packing .bf16)) ∧
  (∀ k0_t47 : Fin (k0_t47_loop v228 v257).trips, ∀ a, (k0_off1731 v1 k0_t34 v228 v257 k0_t47) a + S1x1x1x16x128.size a ≤ S2x2x108x128x128.size a) ∧
  (∀ k0_t47 : Fin (k0_t47_loop v228 v257).trips, ∀ (hinb : ∀ a, (k0_off1731 v1 k0_t34 v228 v257 k0_t47) a + S1x1x1x16x128.size a ≤ S2x2x108x128x128.size a), (Rect.unit (s := S2x2x108x128x128) (k0_off1731 v1 k0_t34 v228 v257 k0_t47) S1x1x1x16x128.size hinb).PackedRows (EltTy.packing .bf16)) ∧
  (∀ k0_t47 : Fin (k0_t47_loop v228 v257).trips, ∀ a, (k0_off1732 v1 k0_t34 v228 v257 k0_t47) a + S1x1x1x16x128.size a ≤ S2x2x108x128x128.size a) ∧
  (∀ k0_t47 : Fin (k0_t47_loop v228 v257).trips, ∀ (hinb : ∀ a, (k0_off1732 v1 k0_t34 v228 v257 k0_t47) a + S1x1x1x16x128.size a ≤ S2x2x108x128x128.size a), (Rect.unit (s := S2x2x108x128x128) (k0_off1732 v1 k0_t34 v228 v257 k0_t47) S1x1x1x16x128.size hinb).PackedRows (EltTy.packing .bf16)) ∧
  (∀ k0_t47 : Fin (k0_t47_loop v228 v257).trips, ∀ a, (k0_off1733 v1 k0_t34 v228 v257 k0_t47) a + S1x1x1x16x128.size a ≤ S2x2x108x128x128.size a) ∧
  (∀ k0_t47 : Fin (k0_t47_loop v228 v257).trips, ∀ (hinb : ∀ a, (k0_off1733 v1 k0_t34 v228 v257 k0_t47) a + S1x1x1x16x128.size a ≤ S2x2x108x128x128.size a), (Rect.unit (s := S2x2x108x128x128) (k0_off1733 v1 k0_t34 v228 v257 k0_t47) S1x1x1x16x128.size hinb).PackedRows (EltTy.packing .bf16)) ∧
  (∀ k0_t47 : Fin (k0_t47_loop v228 v257).trips, ∀ a, (k0_off1734 v1 k0_t34 v228 v257 k0_t47) a + S1x1x1x16x128.size a ≤ S2x2x108x128x128.size a) ∧
  (∀ k0_t47 : Fin (k0_t47_loop v228 v257).trips, ∀ (hinb : ∀ a, (k0_off1734 v1 k0_t34 v228 v257 k0_t47) a + S1x1x1x16x128.size a ≤ S2x2x108x128x128.size a), (Rect.unit (s := S2x2x108x128x128) (k0_off1734 v1 k0_t34 v228 v257 k0_t47) S1x1x1x16x128.size hinb).PackedRows (EltTy.packing .bf16)) ∧
  (∀ k0_t47 : Fin (k0_t47_loop v228 v257).trips, ∀ a, (k0_off1735 v1 k0_t34 v228 v257 k0_t47) a + S1x1x1x16x128.size a ≤ S2x2x108x128x128.size a) ∧
  (∀ k0_t47 : Fin (k0_t47_loop v228 v257).trips, ∀ (hinb : ∀ a, (k0_off1735 v1 k0_t34 v228 v257 k0_t47) a + S1x1x1x16x128.size a ≤ S2x2x108x128x128.size a), (Rect.unit (s := S2x2x108x128x128) (k0_off1735 v1 k0_t34 v228 v257 k0_t47) S1x1x1x16x128.size hinb).PackedRows (EltTy.packing .bf16))
def k0_chk21_49 (v1 : BitVec 32) (k0_t34 : Fin (k0_t34_loop v1).trips) (v228 : BitVec 32) (v257 : BitVec 32) : Prop :=
  (∀ k0_t47 : Fin (k0_t47_loop v228 v257).trips, ∀ a, (k0_off1736 v1 k0_t34 v228 v257 k0_t47) a + S1x1x1x16x128.size a ≤ S2x2x108x128x128.size a) ∧
  (∀ k0_t47 : Fin (k0_t47_loop v228 v257).trips, ∀ (hinb : ∀ a, (k0_off1736 v1 k0_t34 v228 v257 k0_t47) a + S1x1x1x16x128.size a ≤ S2x2x108x128x128.size a), (Rect.unit (s := S2x2x108x128x128) (k0_off1736 v1 k0_t34 v228 v257 k0_t47) S1x1x1x16x128.size hinb).PackedRows (EltTy.packing .bf16)) ∧
  (∀ k0_t47 : Fin (k0_t47_loop v228 v257).trips, ∀ a, (k0_off1737 v1 k0_t34 v228 v257 k0_t47) a + S1x1x1x16x128.size a ≤ S2x2x108x128x128.size a) ∧
  (∀ k0_t47 : Fin (k0_t47_loop v228 v257).trips, ∀ (hinb : ∀ a, (k0_off1737 v1 k0_t34 v228 v257 k0_t47) a + S1x1x1x16x128.size a ≤ S2x2x108x128x128.size a), (Rect.unit (s := S2x2x108x128x128) (k0_off1737 v1 k0_t34 v228 v257 k0_t47) S1x1x1x16x128.size hinb).PackedRows (EltTy.packing .bf16)) ∧
  (∀ k0_t47 : Fin (k0_t47_loop v228 v257).trips, ∀ a, (k0_off1738 v1 k0_t34 v228 v257 k0_t47) a + S1x1x1x16x128.size a ≤ S2x2x108x128x128.size a) ∧
  (∀ k0_t47 : Fin (k0_t47_loop v228 v257).trips, ∀ (hinb : ∀ a, (k0_off1738 v1 k0_t34 v228 v257 k0_t47) a + S1x1x1x16x128.size a ≤ S2x2x108x128x128.size a), (Rect.unit (s := S2x2x108x128x128) (k0_off1738 v1 k0_t34 v228 v257 k0_t47) S1x1x1x16x128.size hinb).PackedRows (EltTy.packing .bf16)) ∧
  (∀ k0_t47 : Fin (k0_t47_loop v228 v257).trips, ∀ a, (k0_off1739 v1 k0_t34 v228 v257 k0_t47) a + S1x1x1x16x128.size a ≤ S2x2x108x128x128.size a) ∧
  (∀ k0_t47 : Fin (k0_t47_loop v228 v257).trips, ∀ (hinb : ∀ a, (k0_off1739 v1 k0_t34 v228 v257 k0_t47) a + S1x1x1x16x128.size a ≤ S2x2x108x128x128.size a), (Rect.unit (s := S2x2x108x128x128) (k0_off1739 v1 k0_t34 v228 v257 k0_t47) S1x1x1x16x128.size hinb).PackedRows (EltTy.packing .bf16)) ∧
  (∀ k0_t47 : Fin (k0_t47_loop v228 v257).trips, ∀ a, (k0_off1740 v1 k0_t34 v228 v257 k0_t47) a + S1x1x1x16x128.size a ≤ S2x2x108x128x128.size a) ∧
  (∀ k0_t47 : Fin (k0_t47_loop v228 v257).trips, ∀ (hinb : ∀ a, (k0_off1740 v1 k0_t34 v228 v257 k0_t47) a + S1x1x1x16x128.size a ≤ S2x2x108x128x128.size a), (Rect.unit (s := S2x2x108x128x128) (k0_off1740 v1 k0_t34 v228 v257 k0_t47) S1x1x1x16x128.size hinb).PackedRows (EltTy.packing .bf16)) ∧
  (∀ k0_t47 : Fin (k0_t47_loop v228 v257).trips, ∀ a, (k0_off1741 v1 k0_t34 v228 v257 k0_t47) a + S1x1x1x16x128.size a ≤ S2x2x108x128x128.size a) ∧
  (∀ k0_t47 : Fin (k0_t47_loop v228 v257).trips, ∀ (hinb : ∀ a, (k0_off1741 v1 k0_t34 v228 v257 k0_t47) a + S1x1x1x16x128.size a ≤ S2x2x108x128x128.size a), (Rect.unit (s := S2x2x108x128x128) (k0_off1741 v1 k0_t34 v228 v257 k0_t47) S1x1x1x16x128.size hinb).PackedRows (EltTy.packing .bf16)) ∧
  (∀ k0_t47 : Fin (k0_t47_loop v228 v257).trips, ∀ a, (k0_off1742 v1 k0_t34 v228 v257 k0_t47) a + S1x1x1x16x128.size a ≤ S2x2x108x128x128.size a) ∧
  (∀ k0_t47 : Fin (k0_t47_loop v228 v257).trips, ∀ (hinb : ∀ a, (k0_off1742 v1 k0_t34 v228 v257 k0_t47) a + S1x1x1x16x128.size a ≤ S2x2x108x128x128.size a), (Rect.unit (s := S2x2x108x128x128) (k0_off1742 v1 k0_t34 v228 v257 k0_t47) S1x1x1x16x128.size hinb).PackedRows (EltTy.packing .bf16)) ∧
  (∀ k0_t47 : Fin (k0_t47_loop v228 v257).trips, ∀ a, (k0_off1743 v1 k0_t34 v228 v257 k0_t47) a + S1x1x1x16x128.size a ≤ S2x2x108x128x128.size a) ∧
  (∀ k0_t47 : Fin (k0_t47_loop v228 v257).trips, ∀ (hinb : ∀ a, (k0_off1743 v1 k0_t34 v228 v257 k0_t47) a + S1x1x1x16x128.size a ≤ S2x2x108x128x128.size a), (Rect.unit (s := S2x2x108x128x128) (k0_off1743 v1 k0_t34 v228 v257 k0_t47) S1x1x1x16x128.size hinb).PackedRows (EltTy.packing .bf16)) ∧
  (∀ k0_t47 : Fin (k0_t47_loop v228 v257).trips, ∀ a, (k0_off1744 v1 k0_t34 v228 v257 k0_t47) a + S1x1x1x16x128.size a ≤ S2x2x108x128x128.size a) ∧
  (∀ k0_t47 : Fin (k0_t47_loop v228 v257).trips, ∀ (hinb : ∀ a, (k0_off1744 v1 k0_t34 v228 v257 k0_t47) a + S1x1x1x16x128.size a ≤ S2x2x108x128x128.size a), (Rect.unit (s := S2x2x108x128x128) (k0_off1744 v1 k0_t34 v228 v257 k0_t47) S1x1x1x16x128.size hinb).PackedRows (EltTy.packing .bf16)) ∧
  (∀ k0_t47 : Fin (k0_t47_loop v228 v257).trips, ∀ a, (k0_off1745 v1 k0_t34 v228 v257 k0_t47) a + S1x1x1x16x128.size a ≤ S2x2x108x128x128.size a) ∧
  (∀ k0_t47 : Fin (k0_t47_loop v228 v257).trips, ∀ (hinb : ∀ a, (k0_off1745 v1 k0_t34 v228 v257 k0_t47) a + S1x1x1x16x128.size a ≤ S2x2x108x128x128.size a), (Rect.unit (s := S2x2x108x128x128) (k0_off1745 v1 k0_t34 v228 v257 k0_t47) S1x1x1x16x128.size hinb).PackedRows (EltTy.packing .bf16)) ∧
  (∀ k0_t47 : Fin (k0_t47_loop v228 v257).trips, ∀ a, (k0_off1746 v1 k0_t34 v228 v257 k0_t47) a + S1x1x1x16x128.size a ≤ S2x2x108x128x128.size a) ∧
  (∀ k0_t47 : Fin (k0_t47_loop v228 v257).trips, ∀ (hinb : ∀ a, (k0_off1746 v1 k0_t34 v228 v257 k0_t47) a + S1x1x1x16x128.size a ≤ S2x2x108x128x128.size a), (Rect.unit (s := S2x2x108x128x128) (k0_off1746 v1 k0_t34 v228 v257 k0_t47) S1x1x1x16x128.size hinb).PackedRows (EltTy.packing .bf16)) ∧
  (∀ k0_t47 : Fin (k0_t47_loop v228 v257).trips, ∀ a, (k0_off1747 v1 k0_t34 v228 v257 k0_t47) a + S1x1x1x16x128.size a ≤ S2x2x108x128x128.size a) ∧
  (∀ k0_t47 : Fin (k0_t47_loop v228 v257).trips, ∀ (hinb : ∀ a, (k0_off1747 v1 k0_t34 v228 v257 k0_t47) a + S1x1x1x16x128.size a ≤ S2x2x108x128x128.size a), (Rect.unit (s := S2x2x108x128x128) (k0_off1747 v1 k0_t34 v228 v257 k0_t47) S1x1x1x16x128.size hinb).PackedRows (EltTy.packing .bf16)) ∧
  (∀ k0_t47 : Fin (k0_t47_loop v228 v257).trips, ∀ a, (k0_off1748 v1 k0_t34 v228 v257 k0_t47) a + S1x1x1x16x128.size a ≤ S2x2x108x128x128.size a) ∧
  (∀ k0_t47 : Fin (k0_t47_loop v228 v257).trips, ∀ (hinb : ∀ a, (k0_off1748 v1 k0_t34 v228 v257 k0_t47) a + S1x1x1x16x128.size a ≤ S2x2x108x128x128.size a), (Rect.unit (s := S2x2x108x128x128) (k0_off1748 v1 k0_t34 v228 v257 k0_t47) S1x1x1x16x128.size hinb).PackedRows (EltTy.packing .bf16)) ∧
  (∀ k0_t47 : Fin (k0_t47_loop v228 v257).trips, ∀ a, (k0_off1749 v1 k0_t34 v228 v257 k0_t47) a + S1x1x1x16x128.size a ≤ S2x2x108x128x128.size a) ∧
  (∀ k0_t47 : Fin (k0_t47_loop v228 v257).trips, ∀ (hinb : ∀ a, (k0_off1749 v1 k0_t34 v228 v257 k0_t47) a + S1x1x1x16x128.size a ≤ S2x2x108x128x128.size a), (Rect.unit (s := S2x2x108x128x128) (k0_off1749 v1 k0_t34 v228 v257 k0_t47) S1x1x1x16x128.size hinb).PackedRows (EltTy.packing .bf16)) ∧
  (∀ k0_t47 : Fin (k0_t47_loop v228 v257).trips, ∀ a, (k0_off1750 v1 k0_t34 v228 v257 k0_t47) a + S1x1x1x16x128.size a ≤ S2x2x108x128x128.size a) ∧
  (∀ k0_t47 : Fin (k0_t47_loop v228 v257).trips, ∀ (hinb : ∀ a, (k0_off1750 v1 k0_t34 v228 v257 k0_t47) a + S1x1x1x16x128.size a ≤ S2x2x108x128x128.size a), (Rect.unit (s := S2x2x108x128x128) (k0_off1750 v1 k0_t34 v228 v257 k0_t47) S1x1x1x16x128.size hinb).PackedRows (EltTy.packing .bf16)) ∧
  (∀ k0_t47 : Fin (k0_t47_loop v228 v257).trips, ∀ a, (k0_off1751 v1 k0_t34 v228 v257 k0_t47) a + S1x1x1x16x128.size a ≤ S2x2x108x128x128.size a) ∧
  (∀ k0_t47 : Fin (k0_t47_loop v228 v257).trips, ∀ (hinb : ∀ a, (k0_off1751 v1 k0_t34 v228 v257 k0_t47) a + S1x1x1x16x128.size a ≤ S2x2x108x128x128.size a), (Rect.unit (s := S2x2x108x128x128) (k0_off1751 v1 k0_t34 v228 v257 k0_t47) S1x1x1x16x128.size hinb).PackedRows (EltTy.packing .bf16))
def k0_chk21_50 (v1 : BitVec 32) (k0_t34 : Fin (k0_t34_loop v1).trips) (v228 : BitVec 32) (v257 : BitVec 32) : Prop :=
  (∀ k0_t47 : Fin (k0_t47_loop v228 v257).trips, ∀ a, (k0_off1752 v1 k0_t34 v228 v257 k0_t47) a + S1x1x1x16x128.size a ≤ S2x2x108x128x128.size a) ∧
  (∀ k0_t47 : Fin (k0_t47_loop v228 v257).trips, ∀ (hinb : ∀ a, (k0_off1752 v1 k0_t34 v228 v257 k0_t47) a + S1x1x1x16x128.size a ≤ S2x2x108x128x128.size a), (Rect.unit (s := S2x2x108x128x128) (k0_off1752 v1 k0_t34 v228 v257 k0_t47) S1x1x1x16x128.size hinb).PackedRows (EltTy.packing .bf16)) ∧
  (∀ k0_t47 : Fin (k0_t47_loop v228 v257).trips, ∀ a, (k0_off1753 v1 k0_t34 v228 v257 k0_t47) a + S1x1x1x16x128.size a ≤ S2x2x108x128x128.size a) ∧
  (∀ k0_t47 : Fin (k0_t47_loop v228 v257).trips, ∀ (hinb : ∀ a, (k0_off1753 v1 k0_t34 v228 v257 k0_t47) a + S1x1x1x16x128.size a ≤ S2x2x108x128x128.size a), (Rect.unit (s := S2x2x108x128x128) (k0_off1753 v1 k0_t34 v228 v257 k0_t47) S1x1x1x16x128.size hinb).PackedRows (EltTy.packing .bf16)) ∧
  (∀ k0_t47 : Fin (k0_t47_loop v228 v257).trips, ∀ a, (k0_off1754 v1 k0_t34 v228 v257 k0_t47) a + S1x1x1x16x128.size a ≤ S2x2x108x128x128.size a) ∧
  (∀ k0_t47 : Fin (k0_t47_loop v228 v257).trips, ∀ (hinb : ∀ a, (k0_off1754 v1 k0_t34 v228 v257 k0_t47) a + S1x1x1x16x128.size a ≤ S2x2x108x128x128.size a), (Rect.unit (s := S2x2x108x128x128) (k0_off1754 v1 k0_t34 v228 v257 k0_t47) S1x1x1x16x128.size hinb).PackedRows (EltTy.packing .bf16)) ∧
  (∀ k0_t47 : Fin (k0_t47_loop v228 v257).trips, ∀ a, (k0_off1755 v1 k0_t34 v228 v257 k0_t47) a + S1x1x1x16x128.size a ≤ S2x2x108x128x128.size a) ∧
  (∀ k0_t47 : Fin (k0_t47_loop v228 v257).trips, ∀ (hinb : ∀ a, (k0_off1755 v1 k0_t34 v228 v257 k0_t47) a + S1x1x1x16x128.size a ≤ S2x2x108x128x128.size a), (Rect.unit (s := S2x2x108x128x128) (k0_off1755 v1 k0_t34 v228 v257 k0_t47) S1x1x1x16x128.size hinb).PackedRows (EltTy.packing .bf16)) ∧
  (∀ k0_t47 : Fin (k0_t47_loop v228 v257).trips, ∀ a, (k0_off1756 v1 k0_t34 v228 v257 k0_t47) a + S1x1x1x16x128.size a ≤ S2x2x108x128x128.size a) ∧
  (∀ k0_t47 : Fin (k0_t47_loop v228 v257).trips, ∀ (hinb : ∀ a, (k0_off1756 v1 k0_t34 v228 v257 k0_t47) a + S1x1x1x16x128.size a ≤ S2x2x108x128x128.size a), (Rect.unit (s := S2x2x108x128x128) (k0_off1756 v1 k0_t34 v228 v257 k0_t47) S1x1x1x16x128.size hinb).PackedRows (EltTy.packing .bf16)) ∧
  (∀ k0_t47 : Fin (k0_t47_loop v228 v257).trips, ∀ a, (k0_off1757 v1 k0_t34 v228 v257 k0_t47) a + S1x1x1x16x128.size a ≤ S2x2x108x128x128.size a) ∧
  (∀ k0_t47 : Fin (k0_t47_loop v228 v257).trips, ∀ (hinb : ∀ a, (k0_off1757 v1 k0_t34 v228 v257 k0_t47) a + S1x1x1x16x128.size a ≤ S2x2x108x128x128.size a), (Rect.unit (s := S2x2x108x128x128) (k0_off1757 v1 k0_t34 v228 v257 k0_t47) S1x1x1x16x128.size hinb).PackedRows (EltTy.packing .bf16)) ∧
  (∀ k0_t47 : Fin (k0_t47_loop v228 v257).trips, ∀ a, (k0_off1758 v1 k0_t34 v228 v257 k0_t47) a + S1x1x1x16x128.size a ≤ S2x2x108x128x128.size a) ∧
  (∀ k0_t47 : Fin (k0_t47_loop v228 v257).trips, ∀ (hinb : ∀ a, (k0_off1758 v1 k0_t34 v228 v257 k0_t47) a + S1x1x1x16x128.size a ≤ S2x2x108x128x128.size a), (Rect.unit (s := S2x2x108x128x128) (k0_off1758 v1 k0_t34 v228 v257 k0_t47) S1x1x1x16x128.size hinb).PackedRows (EltTy.packing .bf16)) ∧
  (∀ k0_t47 : Fin (k0_t47_loop v228 v257).trips, ∀ a, (k0_off1759 v1 k0_t34 v228 v257 k0_t47) a + S1x1x1x16x128.size a ≤ S2x2x108x128x128.size a) ∧
  (∀ k0_t47 : Fin (k0_t47_loop v228 v257).trips, ∀ (hinb : ∀ a, (k0_off1759 v1 k0_t34 v228 v257 k0_t47) a + S1x1x1x16x128.size a ≤ S2x2x108x128x128.size a), (Rect.unit (s := S2x2x108x128x128) (k0_off1759 v1 k0_t34 v228 v257 k0_t47) S1x1x1x16x128.size hinb).PackedRows (EltTy.packing .bf16)) ∧
  (∀ k0_t47 : Fin (k0_t47_loop v228 v257).trips, ∀ a, (k0_off1760 v1 k0_t34 v228 v257 k0_t47) a + S1x1x1x16x128.size a ≤ S2x2x108x128x128.size a) ∧
  (∀ k0_t47 : Fin (k0_t47_loop v228 v257).trips, ∀ (hinb : ∀ a, (k0_off1760 v1 k0_t34 v228 v257 k0_t47) a + S1x1x1x16x128.size a ≤ S2x2x108x128x128.size a), (Rect.unit (s := S2x2x108x128x128) (k0_off1760 v1 k0_t34 v228 v257 k0_t47) S1x1x1x16x128.size hinb).PackedRows (EltTy.packing .bf16)) ∧
  (∀ k0_t47 : Fin (k0_t47_loop v228 v257).trips, ∀ a, (k0_off1761 v1 k0_t34 v228 v257 k0_t47) a + S1x1x1x16x128.size a ≤ S2x2x108x128x128.size a) ∧
  (∀ k0_t47 : Fin (k0_t47_loop v228 v257).trips, ∀ (hinb : ∀ a, (k0_off1761 v1 k0_t34 v228 v257 k0_t47) a + S1x1x1x16x128.size a ≤ S2x2x108x128x128.size a), (Rect.unit (s := S2x2x108x128x128) (k0_off1761 v1 k0_t34 v228 v257 k0_t47) S1x1x1x16x128.size hinb).PackedRows (EltTy.packing .bf16)) ∧
  (∀ k0_t47 : Fin (k0_t47_loop v228 v257).trips, ∀ a, (k0_off1762 v1 k0_t34 v228 v257 k0_t47) a + S1x1x1x16x128.size a ≤ S2x2x108x128x128.size a) ∧
  (∀ k0_t47 : Fin (k0_t47_loop v228 v257).trips, ∀ (hinb : ∀ a, (k0_off1762 v1 k0_t34 v228 v257 k0_t47) a + S1x1x1x16x128.size a ≤ S2x2x108x128x128.size a), (Rect.unit (s := S2x2x108x128x128) (k0_off1762 v1 k0_t34 v228 v257 k0_t47) S1x1x1x16x128.size hinb).PackedRows (EltTy.packing .bf16)) ∧
  (∀ k0_t47 : Fin (k0_t47_loop v228 v257).trips, ∀ a, (k0_off1763 v1 k0_t34 v228 v257 k0_t47) a + S1x1x1x16x128.size a ≤ S2x2x108x128x128.size a) ∧
  (∀ k0_t47 : Fin (k0_t47_loop v228 v257).trips, ∀ (hinb : ∀ a, (k0_off1763 v1 k0_t34 v228 v257 k0_t47) a + S1x1x1x16x128.size a ≤ S2x2x108x128x128.size a), (Rect.unit (s := S2x2x108x128x128) (k0_off1763 v1 k0_t34 v228 v257 k0_t47) S1x1x1x16x128.size hinb).PackedRows (EltTy.packing .bf16)) ∧
  (∀ k0_t47 : Fin (k0_t47_loop v228 v257).trips, ∀ a, (k0_off1764 v1 k0_t34 v228 v257 k0_t47) a + S1x1x1x16x128.size a ≤ S2x2x108x128x128.size a) ∧
  (∀ k0_t47 : Fin (k0_t47_loop v228 v257).trips, ∀ (hinb : ∀ a, (k0_off1764 v1 k0_t34 v228 v257 k0_t47) a + S1x1x1x16x128.size a ≤ S2x2x108x128x128.size a), (Rect.unit (s := S2x2x108x128x128) (k0_off1764 v1 k0_t34 v228 v257 k0_t47) S1x1x1x16x128.size hinb).PackedRows (EltTy.packing .bf16)) ∧
  (∀ k0_t47 : Fin (k0_t47_loop v228 v257).trips, ∀ a, (k0_off1765 v1 k0_t34 v228 v257 k0_t47) a + S1x1x1x16x128.size a ≤ S2x2x108x128x128.size a) ∧
  (∀ k0_t47 : Fin (k0_t47_loop v228 v257).trips, ∀ (hinb : ∀ a, (k0_off1765 v1 k0_t34 v228 v257 k0_t47) a + S1x1x1x16x128.size a ≤ S2x2x108x128x128.size a), (Rect.unit (s := S2x2x108x128x128) (k0_off1765 v1 k0_t34 v228 v257 k0_t47) S1x1x1x16x128.size hinb).PackedRows (EltTy.packing .bf16)) ∧
  (∀ k0_t47 : Fin (k0_t47_loop v228 v257).trips, ∀ a, (k0_off1766 v1 k0_t34 v228 v257 k0_t47) a + S1x1x1x16x128.size a ≤ S2x2x108x128x128.size a) ∧
  (∀ k0_t47 : Fin (k0_t47_loop v228 v257).trips, ∀ (hinb : ∀ a, (k0_off1766 v1 k0_t34 v228 v257 k0_t47) a + S1x1x1x16x128.size a ≤ S2x2x108x128x128.size a), (Rect.unit (s := S2x2x108x128x128) (k0_off1766 v1 k0_t34 v228 v257 k0_t47) S1x1x1x16x128.size hinb).PackedRows (EltTy.packing .bf16)) ∧
  (∀ k0_t47 : Fin (k0_t47_loop v228 v257).trips, ∀ a, (k0_off1767 v1 k0_t34 v228 v257 k0_t47) a + S1x1x1x16x128.size a ≤ S2x2x108x128x128.size a) ∧
  (∀ k0_t47 : Fin (k0_t47_loop v228 v257).trips, ∀ (hinb : ∀ a, (k0_off1767 v1 k0_t34 v228 v257 k0_t47) a + S1x1x1x16x128.size a ≤ S2x2x108x128x128.size a), (Rect.unit (s := S2x2x108x128x128) (k0_off1767 v1 k0_t34 v228 v257 k0_t47) S1x1x1x16x128.size hinb).PackedRows (EltTy.packing .bf16))
def k0_chk21_51 (v1 : BitVec 32) (k0_t34 : Fin (k0_t34_loop v1).trips) (v228 : BitVec 32) (v257 : BitVec 32) : Prop :=
  (∀ k0_t47 : Fin (k0_t47_loop v228 v257).trips, ∀ a, (k0_off1768 v1 k0_t34 v228 v257 k0_t47) a + S1x1x1x16x128.size a ≤ S2x2x108x128x128.size a) ∧
  (∀ k0_t47 : Fin (k0_t47_loop v228 v257).trips, ∀ (hinb : ∀ a, (k0_off1768 v1 k0_t34 v228 v257 k0_t47) a + S1x1x1x16x128.size a ≤ S2x2x108x128x128.size a), (Rect.unit (s := S2x2x108x128x128) (k0_off1768 v1 k0_t34 v228 v257 k0_t47) S1x1x1x16x128.size hinb).PackedRows (EltTy.packing .bf16)) ∧
  (∀ k0_t47 : Fin (k0_t47_loop v228 v257).trips, ∀ a, (k0_off1769 v1 k0_t34 v228 v257 k0_t47) a + S1x1x1x16x128.size a ≤ S2x2x108x128x128.size a) ∧
  (∀ k0_t47 : Fin (k0_t47_loop v228 v257).trips, ∀ (hinb : ∀ a, (k0_off1769 v1 k0_t34 v228 v257 k0_t47) a + S1x1x1x16x128.size a ≤ S2x2x108x128x128.size a), (Rect.unit (s := S2x2x108x128x128) (k0_off1769 v1 k0_t34 v228 v257 k0_t47) S1x1x1x16x128.size hinb).PackedRows (EltTy.packing .bf16)) ∧
  (∀ k0_t47 : Fin (k0_t47_loop v228 v257).trips, ∀ a, (k0_off1770 v1 k0_t34 v228 v257 k0_t47) a + S1x1x1x16x128.size a ≤ S2x2x108x128x128.size a) ∧
  (∀ k0_t47 : Fin (k0_t47_loop v228 v257).trips, ∀ (hinb : ∀ a, (k0_off1770 v1 k0_t34 v228 v257 k0_t47) a + S1x1x1x16x128.size a ≤ S2x2x108x128x128.size a), (Rect.unit (s := S2x2x108x128x128) (k0_off1770 v1 k0_t34 v228 v257 k0_t47) S1x1x1x16x128.size hinb).PackedRows (EltTy.packing .bf16)) ∧
  (∀ k0_t47 : Fin (k0_t47_loop v228 v257).trips, ∀ a, (k0_off1771 v1 k0_t34 v228 v257 k0_t47) a + S1x1x1x16x128.size a ≤ S2x2x108x128x128.size a) ∧
  (∀ k0_t47 : Fin (k0_t47_loop v228 v257).trips, ∀ (hinb : ∀ a, (k0_off1771 v1 k0_t34 v228 v257 k0_t47) a + S1x1x1x16x128.size a ≤ S2x2x108x128x128.size a), (Rect.unit (s := S2x2x108x128x128) (k0_off1771 v1 k0_t34 v228 v257 k0_t47) S1x1x1x16x128.size hinb).PackedRows (EltTy.packing .bf16)) ∧
  (∀ k0_t47 : Fin (k0_t47_loop v228 v257).trips, ∀ a, (k0_off1772 v1 k0_t34 v228 v257 k0_t47) a + S1x1x1x16x128.size a ≤ S2x2x108x128x128.size a) ∧
  (∀ k0_t47 : Fin (k0_t47_loop v228 v257).trips, ∀ (hinb : ∀ a, (k0_off1772 v1 k0_t34 v228 v257 k0_t47) a + S1x1x1x16x128.size a ≤ S2x2x108x128x128.size a), (Rect.unit (s := S2x2x108x128x128) (k0_off1772 v1 k0_t34 v228 v257 k0_t47) S1x1x1x16x128.size hinb).PackedRows (EltTy.packing .bf16)) ∧
  (∀ k0_t47 : Fin (k0_t47_loop v228 v257).trips, ∀ a, (k0_off1773 v1 k0_t34 v228 v257 k0_t47) a + S1x1x1x16x128.size a ≤ S2x2x108x128x128.size a) ∧
  (∀ k0_t47 : Fin (k0_t47_loop v228 v257).trips, ∀ (hinb : ∀ a, (k0_off1773 v1 k0_t34 v228 v257 k0_t47) a + S1x1x1x16x128.size a ≤ S2x2x108x128x128.size a), (Rect.unit (s := S2x2x108x128x128) (k0_off1773 v1 k0_t34 v228 v257 k0_t47) S1x1x1x16x128.size hinb).PackedRows (EltTy.packing .bf16)) ∧
  (∀ k0_t47 : Fin (k0_t47_loop v228 v257).trips, ∀ a, (k0_off1774 v1 k0_t34 v228 v257 k0_t47) a + S1x1x1x16x128.size a ≤ S2x2x108x128x128.size a) ∧
  (∀ k0_t47 : Fin (k0_t47_loop v228 v257).trips, ∀ (hinb : ∀ a, (k0_off1774 v1 k0_t34 v228 v257 k0_t47) a + S1x1x1x16x128.size a ≤ S2x2x108x128x128.size a), (Rect.unit (s := S2x2x108x128x128) (k0_off1774 v1 k0_t34 v228 v257 k0_t47) S1x1x1x16x128.size hinb).PackedRows (EltTy.packing .bf16)) ∧
  (∀ k0_t47 : Fin (k0_t47_loop v228 v257).trips, ∀ a, (k0_off1775 v1 k0_t34 v228 v257 k0_t47) a + S1x1x1x16x128.size a ≤ S2x2x108x128x128.size a) ∧
  (∀ k0_t47 : Fin (k0_t47_loop v228 v257).trips, ∀ (hinb : ∀ a, (k0_off1775 v1 k0_t34 v228 v257 k0_t47) a + S1x1x1x16x128.size a ≤ S2x2x108x128x128.size a), (Rect.unit (s := S2x2x108x128x128) (k0_off1775 v1 k0_t34 v228 v257 k0_t47) S1x1x1x16x128.size hinb).PackedRows (EltTy.packing .bf16)) ∧
  (∀ k0_t47 : Fin (k0_t47_loop v228 v257).trips, ∀ a, (k0_off1776 v1 k0_t34 v228 v257 k0_t47) a + S1x1x1x16x128.size a ≤ S2x2x108x128x128.size a) ∧
  (∀ k0_t47 : Fin (k0_t47_loop v228 v257).trips, ∀ (hinb : ∀ a, (k0_off1776 v1 k0_t34 v228 v257 k0_t47) a + S1x1x1x16x128.size a ≤ S2x2x108x128x128.size a), (Rect.unit (s := S2x2x108x128x128) (k0_off1776 v1 k0_t34 v228 v257 k0_t47) S1x1x1x16x128.size hinb).PackedRows (EltTy.packing .bf16)) ∧
  (∀ k0_t47 : Fin (k0_t47_loop v228 v257).trips, ∀ a, (k0_off1777 v1 k0_t34 v228 v257 k0_t47) a + S1x1x1x16x128.size a ≤ S2x2x108x128x128.size a) ∧
  (∀ k0_t47 : Fin (k0_t47_loop v228 v257).trips, ∀ (hinb : ∀ a, (k0_off1777 v1 k0_t34 v228 v257 k0_t47) a + S1x1x1x16x128.size a ≤ S2x2x108x128x128.size a), (Rect.unit (s := S2x2x108x128x128) (k0_off1777 v1 k0_t34 v228 v257 k0_t47) S1x1x1x16x128.size hinb).PackedRows (EltTy.packing .bf16)) ∧
  (∀ k0_t47 : Fin (k0_t47_loop v228 v257).trips, ∀ a, (k0_off1778 v1 k0_t34 v228 v257 k0_t47) a + S1x1x1x16x128.size a ≤ S2x2x108x128x128.size a) ∧
  (∀ k0_t47 : Fin (k0_t47_loop v228 v257).trips, ∀ (hinb : ∀ a, (k0_off1778 v1 k0_t34 v228 v257 k0_t47) a + S1x1x1x16x128.size a ≤ S2x2x108x128x128.size a), (Rect.unit (s := S2x2x108x128x128) (k0_off1778 v1 k0_t34 v228 v257 k0_t47) S1x1x1x16x128.size hinb).PackedRows (EltTy.packing .bf16)) ∧
  (∀ k0_t47 : Fin (k0_t47_loop v228 v257).trips, ∀ a, (k0_off1779 v1 k0_t34 v228 v257 k0_t47) a + S1x1x1x16x128.size a ≤ S2x2x108x128x128.size a) ∧
  (∀ k0_t47 : Fin (k0_t47_loop v228 v257).trips, ∀ (hinb : ∀ a, (k0_off1779 v1 k0_t34 v228 v257 k0_t47) a + S1x1x1x16x128.size a ≤ S2x2x108x128x128.size a), (Rect.unit (s := S2x2x108x128x128) (k0_off1779 v1 k0_t34 v228 v257 k0_t47) S1x1x1x16x128.size hinb).PackedRows (EltTy.packing .bf16)) ∧
  (∀ k0_t47 : Fin (k0_t47_loop v228 v257).trips, ∀ a, (k0_off1780 v1 k0_t34 v228 v257 k0_t47) a + S1x1x1x16x128.size a ≤ S2x2x108x128x128.size a) ∧
  (∀ k0_t47 : Fin (k0_t47_loop v228 v257).trips, ∀ (hinb : ∀ a, (k0_off1780 v1 k0_t34 v228 v257 k0_t47) a + S1x1x1x16x128.size a ≤ S2x2x108x128x128.size a), (Rect.unit (s := S2x2x108x128x128) (k0_off1780 v1 k0_t34 v228 v257 k0_t47) S1x1x1x16x128.size hinb).PackedRows (EltTy.packing .bf16)) ∧
  (∀ k0_t47 : Fin (k0_t47_loop v228 v257).trips, ∀ a, (k0_off1781 v1 k0_t34 v228 v257 k0_t47) a + S1x1x1x16x128.size a ≤ S2x2x108x128x128.size a) ∧
  (∀ k0_t47 : Fin (k0_t47_loop v228 v257).trips, ∀ (hinb : ∀ a, (k0_off1781 v1 k0_t34 v228 v257 k0_t47) a + S1x1x1x16x128.size a ≤ S2x2x108x128x128.size a), (Rect.unit (s := S2x2x108x128x128) (k0_off1781 v1 k0_t34 v228 v257 k0_t47) S1x1x1x16x128.size hinb).PackedRows (EltTy.packing .bf16)) ∧
  (∀ k0_t47 : Fin (k0_t47_loop v228 v257).trips, ∀ a, (k0_off1782 v1 k0_t34 v228 v257 k0_t47) a + S1x1x1x16x128.size a ≤ S2x2x108x128x128.size a) ∧
  (∀ k0_t47 : Fin (k0_t47_loop v228 v257).trips, ∀ (hinb : ∀ a, (k0_off1782 v1 k0_t34 v228 v257 k0_t47) a + S1x1x1x16x128.size a ≤ S2x2x108x128x128.size a), (Rect.unit (s := S2x2x108x128x128) (k0_off1782 v1 k0_t34 v228 v257 k0_t47) S1x1x1x16x128.size hinb).PackedRows (EltTy.packing .bf16)) ∧
  (∀ k0_t47 : Fin (k0_t47_loop v228 v257).trips, ∀ a, (k0_off1783 v1 k0_t34 v228 v257 k0_t47) a + S1x1x1x16x128.size a ≤ S2x2x108x128x128.size a) ∧
  (∀ k0_t47 : Fin (k0_t47_loop v228 v257).trips, ∀ (hinb : ∀ a, (k0_off1783 v1 k0_t34 v228 v257 k0_t47) a + S1x1x1x16x128.size a ≤ S2x2x108x128x128.size a), (Rect.unit (s := S2x2x108x128x128) (k0_off1783 v1 k0_t34 v228 v257 k0_t47) S1x1x1x16x128.size hinb).PackedRows (EltTy.packing .bf16))
def k0_chk21_52 (v1 : BitVec 32) (k0_t34 : Fin (k0_t34_loop v1).trips) (v228 : BitVec 32) (v257 : BitVec 32) : Prop :=
  (∀ k0_t47 : Fin (k0_t47_loop v228 v257).trips, ∀ a, (k0_off1784 v1 k0_t34 v228 v257 k0_t47) a + S1x1x1x16x128.size a ≤ S2x2x108x128x128.size a) ∧
  (∀ k0_t47 : Fin (k0_t47_loop v228 v257).trips, ∀ (hinb : ∀ a, (k0_off1784 v1 k0_t34 v228 v257 k0_t47) a + S1x1x1x16x128.size a ≤ S2x2x108x128x128.size a), (Rect.unit (s := S2x2x108x128x128) (k0_off1784 v1 k0_t34 v228 v257 k0_t47) S1x1x1x16x128.size hinb).PackedRows (EltTy.packing .bf16)) ∧
  (∀ k0_t47 : Fin (k0_t47_loop v228 v257).trips, ∀ a, (k0_off1785 v1 k0_t34 v228 v257 k0_t47) a + S1x1x1x16x128.size a ≤ S2x2x108x128x128.size a) ∧
  (∀ k0_t47 : Fin (k0_t47_loop v228 v257).trips, ∀ (hinb : ∀ a, (k0_off1785 v1 k0_t34 v228 v257 k0_t47) a + S1x1x1x16x128.size a ≤ S2x2x108x128x128.size a), (Rect.unit (s := S2x2x108x128x128) (k0_off1785 v1 k0_t34 v228 v257 k0_t47) S1x1x1x16x128.size hinb).PackedRows (EltTy.packing .bf16)) ∧
  (∀ k0_t47 : Fin (k0_t47_loop v228 v257).trips, ∀ a, (k0_off1786 v1 k0_t34 v228 v257 k0_t47) a + S1x1x1x16x128.size a ≤ S2x2x108x128x128.size a) ∧
  (∀ k0_t47 : Fin (k0_t47_loop v228 v257).trips, ∀ (hinb : ∀ a, (k0_off1786 v1 k0_t34 v228 v257 k0_t47) a + S1x1x1x16x128.size a ≤ S2x2x108x128x128.size a), (Rect.unit (s := S2x2x108x128x128) (k0_off1786 v1 k0_t34 v228 v257 k0_t47) S1x1x1x16x128.size hinb).PackedRows (EltTy.packing .bf16)) ∧
  (∀ k0_t47 : Fin (k0_t47_loop v228 v257).trips, ∀ a, (k0_off1787 v1 k0_t34 v228 v257 k0_t47) a + S1x1x1x16x128.size a ≤ S2x2x108x128x128.size a) ∧
  (∀ k0_t47 : Fin (k0_t47_loop v228 v257).trips, ∀ (hinb : ∀ a, (k0_off1787 v1 k0_t34 v228 v257 k0_t47) a + S1x1x1x16x128.size a ≤ S2x2x108x128x128.size a), (Rect.unit (s := S2x2x108x128x128) (k0_off1787 v1 k0_t34 v228 v257 k0_t47) S1x1x1x16x128.size hinb).PackedRows (EltTy.packing .bf16)) ∧
  (∀ k0_t47 : Fin (k0_t47_loop v228 v257).trips, ∀ a, (k0_off1788 v1 k0_t34 v228 v257 k0_t47) a + S1x1x1x16x128.size a ≤ S2x2x108x128x128.size a) ∧
  (∀ k0_t47 : Fin (k0_t47_loop v228 v257).trips, ∀ (hinb : ∀ a, (k0_off1788 v1 k0_t34 v228 v257 k0_t47) a + S1x1x1x16x128.size a ≤ S2x2x108x128x128.size a), (Rect.unit (s := S2x2x108x128x128) (k0_off1788 v1 k0_t34 v228 v257 k0_t47) S1x1x1x16x128.size hinb).PackedRows (EltTy.packing .bf16)) ∧
  (∀ k0_t47 : Fin (k0_t47_loop v228 v257).trips, ∀ a, (k0_off1789 v1 k0_t34 v228 v257 k0_t47) a + S1x1x1x16x128.size a ≤ S2x2x108x128x128.size a) ∧
  (∀ k0_t47 : Fin (k0_t47_loop v228 v257).trips, ∀ (hinb : ∀ a, (k0_off1789 v1 k0_t34 v228 v257 k0_t47) a + S1x1x1x16x128.size a ≤ S2x2x108x128x128.size a), (Rect.unit (s := S2x2x108x128x128) (k0_off1789 v1 k0_t34 v228 v257 k0_t47) S1x1x1x16x128.size hinb).PackedRows (EltTy.packing .bf16)) ∧
  (∀ k0_t47 : Fin (k0_t47_loop v228 v257).trips, ∀ a, (k0_off1790 v1 k0_t34 v228 v257 k0_t47) a + S1x1x1x16x128.size a ≤ S2x2x108x128x128.size a) ∧
  (∀ k0_t47 : Fin (k0_t47_loop v228 v257).trips, ∀ (hinb : ∀ a, (k0_off1790 v1 k0_t34 v228 v257 k0_t47) a + S1x1x1x16x128.size a ≤ S2x2x108x128x128.size a), (Rect.unit (s := S2x2x108x128x128) (k0_off1790 v1 k0_t34 v228 v257 k0_t47) S1x1x1x16x128.size hinb).PackedRows (EltTy.packing .bf16)) ∧
  (∀ k0_t47 : Fin (k0_t47_loop v228 v257).trips, ∀ a, (k0_off1791 v1 k0_t34 v228 v257 k0_t47) a + S1x1x1x16x128.size a ≤ S2x2x108x128x128.size a) ∧
  (∀ k0_t47 : Fin (k0_t47_loop v228 v257).trips, ∀ (hinb : ∀ a, (k0_off1791 v1 k0_t34 v228 v257 k0_t47) a + S1x1x1x16x128.size a ≤ S2x2x108x128x128.size a), (Rect.unit (s := S2x2x108x128x128) (k0_off1791 v1 k0_t34 v228 v257 k0_t47) S1x1x1x16x128.size hinb).PackedRows (EltTy.packing .bf16)) ∧
  (∀ k0_t47 : Fin (k0_t47_loop v228 v257).trips, ∀ a, (k0_off1792 v1 k0_t34 v228 v257 k0_t47) a + S1x1x1x16x128.size a ≤ S2x2x108x128x128.size a) ∧
  (∀ k0_t47 : Fin (k0_t47_loop v228 v257).trips, ∀ (hinb : ∀ a, (k0_off1792 v1 k0_t34 v228 v257 k0_t47) a + S1x1x1x16x128.size a ≤ S2x2x108x128x128.size a), (Rect.unit (s := S2x2x108x128x128) (k0_off1792 v1 k0_t34 v228 v257 k0_t47) S1x1x1x16x128.size hinb).PackedRows (EltTy.packing .bf16)) ∧
  (∀ k0_t47 : Fin (k0_t47_loop v228 v257).trips, ∀ a, (k0_off1793 v1 k0_t34 v228 v257 k0_t47) a + S1x1x1x16x128.size a ≤ S2x2x108x128x128.size a) ∧
  (∀ k0_t47 : Fin (k0_t47_loop v228 v257).trips, ∀ (hinb : ∀ a, (k0_off1793 v1 k0_t34 v228 v257 k0_t47) a + S1x1x1x16x128.size a ≤ S2x2x108x128x128.size a), (Rect.unit (s := S2x2x108x128x128) (k0_off1793 v1 k0_t34 v228 v257 k0_t47) S1x1x1x16x128.size hinb).PackedRows (EltTy.packing .bf16)) ∧
  (∀ k0_t47 : Fin (k0_t47_loop v228 v257).trips, ∀ a, (k0_off1794 v1 k0_t34 v228 v257 k0_t47) a + S1x1x1x16x128.size a ≤ S2x2x108x128x128.size a) ∧
  (∀ k0_t47 : Fin (k0_t47_loop v228 v257).trips, ∀ (hinb : ∀ a, (k0_off1794 v1 k0_t34 v228 v257 k0_t47) a + S1x1x1x16x128.size a ≤ S2x2x108x128x128.size a), (Rect.unit (s := S2x2x108x128x128) (k0_off1794 v1 k0_t34 v228 v257 k0_t47) S1x1x1x16x128.size hinb).PackedRows (EltTy.packing .bf16)) ∧
  (∀ k0_t47 : Fin (k0_t47_loop v228 v257).trips, ∀ a, (k0_off1795 v1 k0_t34 v228 v257 k0_t47) a + S1x1x1x16x128.size a ≤ S2x2x108x128x128.size a) ∧
  (∀ k0_t47 : Fin (k0_t47_loop v228 v257).trips, ∀ (hinb : ∀ a, (k0_off1795 v1 k0_t34 v228 v257 k0_t47) a + S1x1x1x16x128.size a ≤ S2x2x108x128x128.size a), (Rect.unit (s := S2x2x108x128x128) (k0_off1795 v1 k0_t34 v228 v257 k0_t47) S1x1x1x16x128.size hinb).PackedRows (EltTy.packing .bf16)) ∧
  (∀ k0_t47 : Fin (k0_t47_loop v228 v257).trips, ∀ a, (k0_off1796 v1 k0_t34 v228 v257 k0_t47) a + S1x1x1x16x128.size a ≤ S2x2x108x128x128.size a) ∧
  (∀ k0_t47 : Fin (k0_t47_loop v228 v257).trips, ∀ (hinb : ∀ a, (k0_off1796 v1 k0_t34 v228 v257 k0_t47) a + S1x1x1x16x128.size a ≤ S2x2x108x128x128.size a), (Rect.unit (s := S2x2x108x128x128) (k0_off1796 v1 k0_t34 v228 v257 k0_t47) S1x1x1x16x128.size hinb).PackedRows (EltTy.packing .bf16)) ∧
  (∀ k0_t47 : Fin (k0_t47_loop v228 v257).trips, ∀ a, (k0_off1797 v1 k0_t34 v228 v257 k0_t47) a + S1x1x1x16x128.size a ≤ S2x2x108x128x128.size a) ∧
  (∀ k0_t47 : Fin (k0_t47_loop v228 v257).trips, ∀ (hinb : ∀ a, (k0_off1797 v1 k0_t34 v228 v257 k0_t47) a + S1x1x1x16x128.size a ≤ S2x2x108x128x128.size a), (Rect.unit (s := S2x2x108x128x128) (k0_off1797 v1 k0_t34 v228 v257 k0_t47) S1x1x1x16x128.size hinb).PackedRows (EltTy.packing .bf16)) ∧
  (∀ k0_t47 : Fin (k0_t47_loop v228 v257).trips, ∀ a, (k0_off1798 v1 k0_t34 v228 v257 k0_t47) a + S1x1x1x16x128.size a ≤ S2x2x108x128x128.size a) ∧
  (∀ k0_t47 : Fin (k0_t47_loop v228 v257).trips, ∀ (hinb : ∀ a, (k0_off1798 v1 k0_t34 v228 v257 k0_t47) a + S1x1x1x16x128.size a ≤ S2x2x108x128x128.size a), (Rect.unit (s := S2x2x108x128x128) (k0_off1798 v1 k0_t34 v228 v257 k0_t47) S1x1x1x16x128.size hinb).PackedRows (EltTy.packing .bf16)) ∧
  (∀ k0_t47 : Fin (k0_t47_loop v228 v257).trips, ∀ a, (k0_off1799 v1 k0_t34 v228 v257 k0_t47) a + S1x1x1x16x128.size a ≤ S2x2x108x128x128.size a) ∧
  (∀ k0_t47 : Fin (k0_t47_loop v228 v257).trips, ∀ (hinb : ∀ a, (k0_off1799 v1 k0_t34 v228 v257 k0_t47) a + S1x1x1x16x128.size a ≤ S2x2x108x128x128.size a), (Rect.unit (s := S2x2x108x128x128) (k0_off1799 v1 k0_t34 v228 v257 k0_t47) S1x1x1x16x128.size hinb).PackedRows (EltTy.packing .bf16))
def k0_chk21_53 (v1 : BitVec 32) (k0_t34 : Fin (k0_t34_loop v1).trips) (v228 : BitVec 32) (v257 : BitVec 32) : Prop :=
  (∀ k0_t47 : Fin (k0_t47_loop v228 v257).trips, ∀ a, (k0_off1800 v1 k0_t34 v228 v257 k0_t47) a + S1x1x1x16x128.size a ≤ S2x2x108x128x128.size a) ∧
  (∀ k0_t47 : Fin (k0_t47_loop v228 v257).trips, ∀ (hinb : ∀ a, (k0_off1800 v1 k0_t34 v228 v257 k0_t47) a + S1x1x1x16x128.size a ≤ S2x2x108x128x128.size a), (Rect.unit (s := S2x2x108x128x128) (k0_off1800 v1 k0_t34 v228 v257 k0_t47) S1x1x1x16x128.size hinb).PackedRows (EltTy.packing .bf16)) ∧
  (∀ k0_t47 : Fin (k0_t47_loop v228 v257).trips, ∀ a, (k0_off1801 v1 k0_t34 v228 v257 k0_t47) a + S1x1x1x16x128.size a ≤ S2x2x108x128x128.size a) ∧
  (∀ k0_t47 : Fin (k0_t47_loop v228 v257).trips, ∀ (hinb : ∀ a, (k0_off1801 v1 k0_t34 v228 v257 k0_t47) a + S1x1x1x16x128.size a ≤ S2x2x108x128x128.size a), (Rect.unit (s := S2x2x108x128x128) (k0_off1801 v1 k0_t34 v228 v257 k0_t47) S1x1x1x16x128.size hinb).PackedRows (EltTy.packing .bf16)) ∧
  (∀ k0_t47 : Fin (k0_t47_loop v228 v257).trips, ∀ a, (k0_off1802 v1 k0_t34 v228 v257 k0_t47) a + S1x1x1x16x128.size a ≤ S2x2x108x128x128.size a) ∧
  (∀ k0_t47 : Fin (k0_t47_loop v228 v257).trips, ∀ (hinb : ∀ a, (k0_off1802 v1 k0_t34 v228 v257 k0_t47) a + S1x1x1x16x128.size a ≤ S2x2x108x128x128.size a), (Rect.unit (s := S2x2x108x128x128) (k0_off1802 v1 k0_t34 v228 v257 k0_t47) S1x1x1x16x128.size hinb).PackedRows (EltTy.packing .bf16)) ∧
  (∀ k0_t47 : Fin (k0_t47_loop v228 v257).trips, ∀ a, (k0_off1803 v1 k0_t34 v228 v257 k0_t47) a + S1x1x1x16x128.size a ≤ S2x2x108x128x128.size a) ∧
  (∀ k0_t47 : Fin (k0_t47_loop v228 v257).trips, ∀ (hinb : ∀ a, (k0_off1803 v1 k0_t34 v228 v257 k0_t47) a + S1x1x1x16x128.size a ≤ S2x2x108x128x128.size a), (Rect.unit (s := S2x2x108x128x128) (k0_off1803 v1 k0_t34 v228 v257 k0_t47) S1x1x1x16x128.size hinb).PackedRows (EltTy.packing .bf16)) ∧
  (∀ k0_t47 : Fin (k0_t47_loop v228 v257).trips, ∀ a, (k0_off1804 v1 k0_t34 v228 v257 k0_t47) a + S1x1x1x16x128.size a ≤ S2x2x108x128x128.size a) ∧
  (∀ k0_t47 : Fin (k0_t47_loop v228 v257).trips, ∀ (hinb : ∀ a, (k0_off1804 v1 k0_t34 v228 v257 k0_t47) a + S1x1x1x16x128.size a ≤ S2x2x108x128x128.size a), (Rect.unit (s := S2x2x108x128x128) (k0_off1804 v1 k0_t34 v228 v257 k0_t47) S1x1x1x16x128.size hinb).PackedRows (EltTy.packing .bf16)) ∧
  (∀ k0_t47 : Fin (k0_t47_loop v228 v257).trips, ∀ a, (k0_off1805 v1 k0_t34 v228 v257 k0_t47) a + S1x1x1x16x128.size a ≤ S2x2x108x128x128.size a) ∧
  (∀ k0_t47 : Fin (k0_t47_loop v228 v257).trips, ∀ (hinb : ∀ a, (k0_off1805 v1 k0_t34 v228 v257 k0_t47) a + S1x1x1x16x128.size a ≤ S2x2x108x128x128.size a), (Rect.unit (s := S2x2x108x128x128) (k0_off1805 v1 k0_t34 v228 v257 k0_t47) S1x1x1x16x128.size hinb).PackedRows (EltTy.packing .bf16)) ∧
  (∀ k0_t47 : Fin (k0_t47_loop v228 v257).trips, ∀ a, (k0_off1806 v1 k0_t34 v228 v257 k0_t47) a + S1x1x1x16x128.size a ≤ S2x2x108x128x128.size a) ∧
  (∀ k0_t47 : Fin (k0_t47_loop v228 v257).trips, ∀ (hinb : ∀ a, (k0_off1806 v1 k0_t34 v228 v257 k0_t47) a + S1x1x1x16x128.size a ≤ S2x2x108x128x128.size a), (Rect.unit (s := S2x2x108x128x128) (k0_off1806 v1 k0_t34 v228 v257 k0_t47) S1x1x1x16x128.size hinb).PackedRows (EltTy.packing .bf16)) ∧
  (∀ k0_t47 : Fin (k0_t47_loop v228 v257).trips, ∀ a, (k0_off1807 v1 k0_t34 v228 v257 k0_t47) a + S1x1x1x16x128.size a ≤ S2x2x108x128x128.size a) ∧
  (∀ k0_t47 : Fin (k0_t47_loop v228 v257).trips, ∀ (hinb : ∀ a, (k0_off1807 v1 k0_t34 v228 v257 k0_t47) a + S1x1x1x16x128.size a ≤ S2x2x108x128x128.size a), (Rect.unit (s := S2x2x108x128x128) (k0_off1807 v1 k0_t34 v228 v257 k0_t47) S1x1x1x16x128.size hinb).PackedRows (EltTy.packing .bf16)) ∧
  (∀ k0_t47 : Fin (k0_t47_loop v228 v257).trips, ∀ a, (k0_off1808 v1 k0_t34 v228 v257 k0_t47) a + S1x1x1x16x128.size a ≤ S2x2x108x128x128.size a) ∧
  (∀ k0_t47 : Fin (k0_t47_loop v228 v257).trips, ∀ (hinb : ∀ a, (k0_off1808 v1 k0_t34 v228 v257 k0_t47) a + S1x1x1x16x128.size a ≤ S2x2x108x128x128.size a), (Rect.unit (s := S2x2x108x128x128) (k0_off1808 v1 k0_t34 v228 v257 k0_t47) S1x1x1x16x128.size hinb).PackedRows (EltTy.packing .bf16)) ∧
  (∀ k0_t47 : Fin (k0_t47_loop v228 v257).trips, ∀ a, (k0_off1809 v1 k0_t34 v228 v257 k0_t47) a + S1x1x1x16x128.size a ≤ S2x2x108x128x128.size a) ∧
  (∀ k0_t47 : Fin (k0_t47_loop v228 v257).trips, ∀ (hinb : ∀ a, (k0_off1809 v1 k0_t34 v228 v257 k0_t47) a + S1x1x1x16x128.size a ≤ S2x2x108x128x128.size a), (Rect.unit (s := S2x2x108x128x128) (k0_off1809 v1 k0_t34 v228 v257 k0_t47) S1x1x1x16x128.size hinb).PackedRows (EltTy.packing .bf16)) ∧
  (∀ k0_t47 : Fin (k0_t47_loop v228 v257).trips, ∀ a, (k0_off1810 v1 k0_t34 v228 v257 k0_t47) a + S1x1x1x16x128.size a ≤ S2x2x108x128x128.size a) ∧
  (∀ k0_t47 : Fin (k0_t47_loop v228 v257).trips, ∀ (hinb : ∀ a, (k0_off1810 v1 k0_t34 v228 v257 k0_t47) a + S1x1x1x16x128.size a ≤ S2x2x108x128x128.size a), (Rect.unit (s := S2x2x108x128x128) (k0_off1810 v1 k0_t34 v228 v257 k0_t47) S1x1x1x16x128.size hinb).PackedRows (EltTy.packing .bf16)) ∧
  (∀ k0_t47 : Fin (k0_t47_loop v228 v257).trips, ∀ a, (k0_off1811 v1 k0_t34 v228 v257 k0_t47) a + S1x1x1x16x128.size a ≤ S2x2x108x128x128.size a) ∧
  (∀ k0_t47 : Fin (k0_t47_loop v228 v257).trips, ∀ (hinb : ∀ a, (k0_off1811 v1 k0_t34 v228 v257 k0_t47) a + S1x1x1x16x128.size a ≤ S2x2x108x128x128.size a), (Rect.unit (s := S2x2x108x128x128) (k0_off1811 v1 k0_t34 v228 v257 k0_t47) S1x1x1x16x128.size hinb).PackedRows (EltTy.packing .bf16)) ∧
  (∀ k0_t47 : Fin (k0_t47_loop v228 v257).trips, ∀ a, (k0_off1812 v1 k0_t34 v228 v257 k0_t47) a + S1x1x1x16x128.size a ≤ S2x2x108x128x128.size a) ∧
  (∀ k0_t47 : Fin (k0_t47_loop v228 v257).trips, ∀ (hinb : ∀ a, (k0_off1812 v1 k0_t34 v228 v257 k0_t47) a + S1x1x1x16x128.size a ≤ S2x2x108x128x128.size a), (Rect.unit (s := S2x2x108x128x128) (k0_off1812 v1 k0_t34 v228 v257 k0_t47) S1x1x1x16x128.size hinb).PackedRows (EltTy.packing .bf16)) ∧
  (∀ k0_t47 : Fin (k0_t47_loop v228 v257).trips, ∀ a, (k0_off1813 v1 k0_t34 v228 v257 k0_t47) a + S1x1x1x16x128.size a ≤ S2x2x108x128x128.size a) ∧
  (∀ k0_t47 : Fin (k0_t47_loop v228 v257).trips, ∀ (hinb : ∀ a, (k0_off1813 v1 k0_t34 v228 v257 k0_t47) a + S1x1x1x16x128.size a ≤ S2x2x108x128x128.size a), (Rect.unit (s := S2x2x108x128x128) (k0_off1813 v1 k0_t34 v228 v257 k0_t47) S1x1x1x16x128.size hinb).PackedRows (EltTy.packing .bf16)) ∧
  (∀ k0_t47 : Fin (k0_t47_loop v228 v257).trips, ∀ a, (k0_off1814 v1 k0_t34 v228 v257 k0_t47) a + S1x1x1x16x128.size a ≤ S2x2x108x128x128.size a) ∧
  (∀ k0_t47 : Fin (k0_t47_loop v228 v257).trips, ∀ (hinb : ∀ a, (k0_off1814 v1 k0_t34 v228 v257 k0_t47) a + S1x1x1x16x128.size a ≤ S2x2x108x128x128.size a), (Rect.unit (s := S2x2x108x128x128) (k0_off1814 v1 k0_t34 v228 v257 k0_t47) S1x1x1x16x128.size hinb).PackedRows (EltTy.packing .bf16)) ∧
  (∀ k0_t47 : Fin (k0_t47_loop v228 v257).trips, ∀ a, (k0_off1815 v1 k0_t34 v228 v257 k0_t47) a + S1x1x1x16x128.size a ≤ S2x2x108x128x128.size a) ∧
  (∀ k0_t47 : Fin (k0_t47_loop v228 v257).trips, ∀ (hinb : ∀ a, (k0_off1815 v1 k0_t34 v228 v257 k0_t47) a + S1x1x1x16x128.size a ≤ S2x2x108x128x128.size a), (Rect.unit (s := S2x2x108x128x128) (k0_off1815 v1 k0_t34 v228 v257 k0_t47) S1x1x1x16x128.size hinb).PackedRows (EltTy.packing .bf16))
def k0_chk21_54 (v1 : BitVec 32) (k0_t34 : Fin (k0_t34_loop v1).trips) (v228 : BitVec 32) (v257 : BitVec 32) : Prop :=
  (∀ k0_t47 : Fin (k0_t47_loop v228 v257).trips, ∀ a, (k0_off1816 v1 k0_t34 v228 v257 k0_t47) a + S1x1x1x16x128.size a ≤ S2x2x108x128x128.size a) ∧
  (∀ k0_t47 : Fin (k0_t47_loop v228 v257).trips, ∀ (hinb : ∀ a, (k0_off1816 v1 k0_t34 v228 v257 k0_t47) a + S1x1x1x16x128.size a ≤ S2x2x108x128x128.size a), (Rect.unit (s := S2x2x108x128x128) (k0_off1816 v1 k0_t34 v228 v257 k0_t47) S1x1x1x16x128.size hinb).PackedRows (EltTy.packing .bf16)) ∧
  (∀ k0_t47 : Fin (k0_t47_loop v228 v257).trips, ∀ a, (k0_off1817 v1 k0_t34 v228 v257 k0_t47) a + S1x1x1x16x128.size a ≤ S2x2x108x128x128.size a) ∧
  (∀ k0_t47 : Fin (k0_t47_loop v228 v257).trips, ∀ (hinb : ∀ a, (k0_off1817 v1 k0_t34 v228 v257 k0_t47) a + S1x1x1x16x128.size a ≤ S2x2x108x128x128.size a), (Rect.unit (s := S2x2x108x128x128) (k0_off1817 v1 k0_t34 v228 v257 k0_t47) S1x1x1x16x128.size hinb).PackedRows (EltTy.packing .bf16)) ∧
  (∀ k0_t47 : Fin (k0_t47_loop v228 v257).trips, ∀ a, (k0_off1818 v1 k0_t34 v228 v257 k0_t47) a + S1x1x1x16x128.size a ≤ S2x2x108x128x128.size a) ∧
  (∀ k0_t47 : Fin (k0_t47_loop v228 v257).trips, ∀ (hinb : ∀ a, (k0_off1818 v1 k0_t34 v228 v257 k0_t47) a + S1x1x1x16x128.size a ≤ S2x2x108x128x128.size a), (Rect.unit (s := S2x2x108x128x128) (k0_off1818 v1 k0_t34 v228 v257 k0_t47) S1x1x1x16x128.size hinb).PackedRows (EltTy.packing .bf16)) ∧
  (∀ k0_t47 : Fin (k0_t47_loop v228 v257).trips, ∀ a, (k0_off1819 v1 k0_t34 v228 v257 k0_t47) a + S1x1x1x16x128.size a ≤ S2x2x108x128x128.size a) ∧
  (∀ k0_t47 : Fin (k0_t47_loop v228 v257).trips, ∀ (hinb : ∀ a, (k0_off1819 v1 k0_t34 v228 v257 k0_t47) a + S1x1x1x16x128.size a ≤ S2x2x108x128x128.size a), (Rect.unit (s := S2x2x108x128x128) (k0_off1819 v1 k0_t34 v228 v257 k0_t47) S1x1x1x16x128.size hinb).PackedRows (EltTy.packing .bf16)) ∧
  (∀ k0_t47 : Fin (k0_t47_loop v228 v257).trips, ∀ a, (k0_off1820 v1 k0_t34 v228 v257 k0_t47) a + S1x1x1x16x128.size a ≤ S2x2x108x128x128.size a) ∧
  (∀ k0_t47 : Fin (k0_t47_loop v228 v257).trips, ∀ (hinb : ∀ a, (k0_off1820 v1 k0_t34 v228 v257 k0_t47) a + S1x1x1x16x128.size a ≤ S2x2x108x128x128.size a), (Rect.unit (s := S2x2x108x128x128) (k0_off1820 v1 k0_t34 v228 v257 k0_t47) S1x1x1x16x128.size hinb).PackedRows (EltTy.packing .bf16)) ∧
  (∀ k0_t47 : Fin (k0_t47_loop v228 v257).trips, ∀ a, (k0_off1821 v1 k0_t34 v228 v257 k0_t47) a + S1x1x1x16x128.size a ≤ S2x2x108x128x128.size a) ∧
  (∀ k0_t47 : Fin (k0_t47_loop v228 v257).trips, ∀ (hinb : ∀ a, (k0_off1821 v1 k0_t34 v228 v257 k0_t47) a + S1x1x1x16x128.size a ≤ S2x2x108x128x128.size a), (Rect.unit (s := S2x2x108x128x128) (k0_off1821 v1 k0_t34 v228 v257 k0_t47) S1x1x1x16x128.size hinb).PackedRows (EltTy.packing .bf16)) ∧
  (∀ k0_t47 : Fin (k0_t47_loop v228 v257).trips, ∀ a, (k0_off1822 v1 k0_t34 v228 v257 k0_t47) a + S1x1x1x16x128.size a ≤ S2x2x108x128x128.size a) ∧
  (∀ k0_t47 : Fin (k0_t47_loop v228 v257).trips, ∀ (hinb : ∀ a, (k0_off1822 v1 k0_t34 v228 v257 k0_t47) a + S1x1x1x16x128.size a ≤ S2x2x108x128x128.size a), (Rect.unit (s := S2x2x108x128x128) (k0_off1822 v1 k0_t34 v228 v257 k0_t47) S1x1x1x16x128.size hinb).PackedRows (EltTy.packing .bf16)) ∧
  (∀ k0_t47 : Fin (k0_t47_loop v228 v257).trips, ∀ a, (k0_off1823 v1 k0_t34 v228 v257 k0_t47) a + S1x1x1x16x128.size a ≤ S2x2x108x128x128.size a) ∧
  (∀ k0_t47 : Fin (k0_t47_loop v228 v257).trips, ∀ (hinb : ∀ a, (k0_off1823 v1 k0_t34 v228 v257 k0_t47) a + S1x1x1x16x128.size a ≤ S2x2x108x128x128.size a), (Rect.unit (s := S2x2x108x128x128) (k0_off1823 v1 k0_t34 v228 v257 k0_t47) S1x1x1x16x128.size hinb).PackedRows (EltTy.packing .bf16)) ∧
  (∀ k0_t47 : Fin (k0_t47_loop v228 v257).trips, ∀ a, (k0_off1824 v1 k0_t34 v228 v257 k0_t47) a + S1x1x1x16x128.size a ≤ S2x2x108x128x128.size a) ∧
  (∀ k0_t47 : Fin (k0_t47_loop v228 v257).trips, ∀ (hinb : ∀ a, (k0_off1824 v1 k0_t34 v228 v257 k0_t47) a + S1x1x1x16x128.size a ≤ S2x2x108x128x128.size a), (Rect.unit (s := S2x2x108x128x128) (k0_off1824 v1 k0_t34 v228 v257 k0_t47) S1x1x1x16x128.size hinb).PackedRows (EltTy.packing .bf16)) ∧
  (∀ k0_t47 : Fin (k0_t47_loop v228 v257).trips, ∀ a, (k0_off1825 v1 k0_t34 v228 v257 k0_t47) a + S1x1x1x16x128.size a ≤ S2x2x108x128x128.size a) ∧
  (∀ k0_t47 : Fin (k0_t47_loop v228 v257).trips, ∀ (hinb : ∀ a, (k0_off1825 v1 k0_t34 v228 v257 k0_t47) a + S1x1x1x16x128.size a ≤ S2x2x108x128x128.size a), (Rect.unit (s := S2x2x108x128x128) (k0_off1825 v1 k0_t34 v228 v257 k0_t47) S1x1x1x16x128.size hinb).PackedRows (EltTy.packing .bf16)) ∧
  (∀ k0_t47 : Fin (k0_t47_loop v228 v257).trips, ∀ a, (k0_off1826 v1 k0_t34 v228 v257 k0_t47) a + S1x1x1x16x128.size a ≤ S2x2x108x128x128.size a) ∧
  (∀ k0_t47 : Fin (k0_t47_loop v228 v257).trips, ∀ (hinb : ∀ a, (k0_off1826 v1 k0_t34 v228 v257 k0_t47) a + S1x1x1x16x128.size a ≤ S2x2x108x128x128.size a), (Rect.unit (s := S2x2x108x128x128) (k0_off1826 v1 k0_t34 v228 v257 k0_t47) S1x1x1x16x128.size hinb).PackedRows (EltTy.packing .bf16)) ∧
  (∀ k0_t47 : Fin (k0_t47_loop v228 v257).trips, ∀ a, (k0_off1827 v1 k0_t34 v228 v257 k0_t47) a + S1x1x1x16x128.size a ≤ S2x2x108x128x128.size a) ∧
  (∀ k0_t47 : Fin (k0_t47_loop v228 v257).trips, ∀ (hinb : ∀ a, (k0_off1827 v1 k0_t34 v228 v257 k0_t47) a + S1x1x1x16x128.size a ≤ S2x2x108x128x128.size a), (Rect.unit (s := S2x2x108x128x128) (k0_off1827 v1 k0_t34 v228 v257 k0_t47) S1x1x1x16x128.size hinb).PackedRows (EltTy.packing .bf16)) ∧
  (∀ k0_t47 : Fin (k0_t47_loop v228 v257).trips, ∀ a, (k0_off1828 v1 k0_t34 v228 v257 k0_t47) a + S1x1x1x16x128.size a ≤ S2x2x108x128x128.size a) ∧
  (∀ k0_t47 : Fin (k0_t47_loop v228 v257).trips, ∀ (hinb : ∀ a, (k0_off1828 v1 k0_t34 v228 v257 k0_t47) a + S1x1x1x16x128.size a ≤ S2x2x108x128x128.size a), (Rect.unit (s := S2x2x108x128x128) (k0_off1828 v1 k0_t34 v228 v257 k0_t47) S1x1x1x16x128.size hinb).PackedRows (EltTy.packing .bf16)) ∧
  (∀ k0_t47 : Fin (k0_t47_loop v228 v257).trips, ∀ a, (k0_off1829 v1 k0_t34 v228 v257 k0_t47) a + S1x1x1x16x128.size a ≤ S2x2x108x128x128.size a) ∧
  (∀ k0_t47 : Fin (k0_t47_loop v228 v257).trips, ∀ (hinb : ∀ a, (k0_off1829 v1 k0_t34 v228 v257 k0_t47) a + S1x1x1x16x128.size a ≤ S2x2x108x128x128.size a), (Rect.unit (s := S2x2x108x128x128) (k0_off1829 v1 k0_t34 v228 v257 k0_t47) S1x1x1x16x128.size hinb).PackedRows (EltTy.packing .bf16)) ∧
  (∀ k0_t47 : Fin (k0_t47_loop v228 v257).trips, ∀ a, (k0_off1830 v1 k0_t34 v228 v257 k0_t47) a + S1x1x1x16x128.size a ≤ S2x2x108x128x128.size a) ∧
  (∀ k0_t47 : Fin (k0_t47_loop v228 v257).trips, ∀ (hinb : ∀ a, (k0_off1830 v1 k0_t34 v228 v257 k0_t47) a + S1x1x1x16x128.size a ≤ S2x2x108x128x128.size a), (Rect.unit (s := S2x2x108x128x128) (k0_off1830 v1 k0_t34 v228 v257 k0_t47) S1x1x1x16x128.size hinb).PackedRows (EltTy.packing .bf16)) ∧
  (∀ k0_t47 : Fin (k0_t47_loop v228 v257).trips, ∀ a, (k0_off1831 v1 k0_t34 v228 v257 k0_t47) a + S1x1x1x16x128.size a ≤ S2x2x108x128x128.size a) ∧
  (∀ k0_t47 : Fin (k0_t47_loop v228 v257).trips, ∀ (hinb : ∀ a, (k0_off1831 v1 k0_t34 v228 v257 k0_t47) a + S1x1x1x16x128.size a ≤ S2x2x108x128x128.size a), (Rect.unit (s := S2x2x108x128x128) (k0_off1831 v1 k0_t34 v228 v257 k0_t47) S1x1x1x16x128.size hinb).PackedRows (EltTy.packing .bf16))
def k0_chk21_55 (v1 : BitVec 32) (k0_t34 : Fin (k0_t34_loop v1).trips) (v228 : BitVec 32) (v257 : BitVec 32) : Prop :=
  (∀ k0_t47 : Fin (k0_t47_loop v228 v257).trips, ∀ a, (k0_off1832 v1 k0_t34 v228 v257 k0_t47) a + S1x1x1x16x128.size a ≤ S2x2x108x128x128.size a) ∧
  (∀ k0_t47 : Fin (k0_t47_loop v228 v257).trips, ∀ (hinb : ∀ a, (k0_off1832 v1 k0_t34 v228 v257 k0_t47) a + S1x1x1x16x128.size a ≤ S2x2x108x128x128.size a), (Rect.unit (s := S2x2x108x128x128) (k0_off1832 v1 k0_t34 v228 v257 k0_t47) S1x1x1x16x128.size hinb).PackedRows (EltTy.packing .bf16)) ∧
  (∀ k0_t47 : Fin (k0_t47_loop v228 v257).trips, ∀ a, (k0_off1833 v1 k0_t34 v228 v257 k0_t47) a + S1x1x1x16x128.size a ≤ S2x2x108x128x128.size a) ∧
  (∀ k0_t47 : Fin (k0_t47_loop v228 v257).trips, ∀ (hinb : ∀ a, (k0_off1833 v1 k0_t34 v228 v257 k0_t47) a + S1x1x1x16x128.size a ≤ S2x2x108x128x128.size a), (Rect.unit (s := S2x2x108x128x128) (k0_off1833 v1 k0_t34 v228 v257 k0_t47) S1x1x1x16x128.size hinb).PackedRows (EltTy.packing .bf16)) ∧
  (∀ k0_t47 : Fin (k0_t47_loop v228 v257).trips, ∀ a, (k0_off1834 v1 k0_t34 v228 v257 k0_t47) a + S1x1x1x16x128.size a ≤ S2x2x108x128x128.size a) ∧
  (∀ k0_t47 : Fin (k0_t47_loop v228 v257).trips, ∀ (hinb : ∀ a, (k0_off1834 v1 k0_t34 v228 v257 k0_t47) a + S1x1x1x16x128.size a ≤ S2x2x108x128x128.size a), (Rect.unit (s := S2x2x108x128x128) (k0_off1834 v1 k0_t34 v228 v257 k0_t47) S1x1x1x16x128.size hinb).PackedRows (EltTy.packing .bf16)) ∧
  ((k0_t48_loop v228 v257).OK) ∧
  (∀ k0_t48 : Fin (k0_t48_loop v228 v257).trips, 16 ∣ (k0_mult15 v228 v257 k0_t48).toNat) ∧
  (∀ k0_t48 : Fin (k0_t48_loop v228 v257).trips, ∀ a, (k0_off1835 v1 k0_t34 v228 v257 k0_t48) a + S1x1x1x16x128.size a ≤ S2x2x108x128x128.size a) ∧
  (∀ k0_t48 : Fin (k0_t48_loop v228 v257).trips, ∀ (hinb : ∀ a, (k0_off1835 v1 k0_t34 v228 v257 k0_t48) a + S1x1x1x16x128.size a ≤ S2x2x108x128x128.size a), (Rect.unit (s := S2x2x108x128x128) (k0_off1835 v1 k0_t34 v228 v257 k0_t48) S1x1x1x16x128.size hinb).PackedRows (EltTy.packing .bf16)) ∧
  (∀ k0_t48 : Fin (k0_t48_loop v228 v257).trips, ∀ a, (k0_off1836 v1 k0_t34 v228 v257 k0_t48) a + S1x1x1x16x128.size a ≤ S2x2x108x128x128.size a) ∧
  (∀ k0_t48 : Fin (k0_t48_loop v228 v257).trips, ∀ (hinb : ∀ a, (k0_off1836 v1 k0_t34 v228 v257 k0_t48) a + S1x1x1x16x128.size a ≤ S2x2x108x128x128.size a), (Rect.unit (s := S2x2x108x128x128) (k0_off1836 v1 k0_t34 v228 v257 k0_t48) S1x1x1x16x128.size hinb).PackedRows (EltTy.packing .bf16)) ∧
  (∀ k0_t48 : Fin (k0_t48_loop v228 v257).trips, ∀ a, (k0_off1837 v1 k0_t34 v228 v257 k0_t48) a + S1x1x1x16x128.size a ≤ S2x2x108x128x128.size a) ∧
  (∀ k0_t48 : Fin (k0_t48_loop v228 v257).trips, ∀ (hinb : ∀ a, (k0_off1837 v1 k0_t34 v228 v257 k0_t48) a + S1x1x1x16x128.size a ≤ S2x2x108x128x128.size a), (Rect.unit (s := S2x2x108x128x128) (k0_off1837 v1 k0_t34 v228 v257 k0_t48) S1x1x1x16x128.size hinb).PackedRows (EltTy.packing .bf16)) ∧
  (∀ k0_t48 : Fin (k0_t48_loop v228 v257).trips, ∀ a, (k0_off1838 v1 k0_t34 v228 v257 k0_t48) a + S1x1x1x16x128.size a ≤ S2x2x108x128x128.size a) ∧
  (∀ k0_t48 : Fin (k0_t48_loop v228 v257).trips, ∀ (hinb : ∀ a, (k0_off1838 v1 k0_t34 v228 v257 k0_t48) a + S1x1x1x16x128.size a ≤ S2x2x108x128x128.size a), (Rect.unit (s := S2x2x108x128x128) (k0_off1838 v1 k0_t34 v228 v257 k0_t48) S1x1x1x16x128.size hinb).PackedRows (EltTy.packing .bf16)) ∧
  (∀ k0_t48 : Fin (k0_t48_loop v228 v257).trips, ∀ a, (k0_off1839 v1 k0_t34 v228 v257 k0_t48) a + S1x1x1x16x128.size a ≤ S2x2x108x128x128.size a) ∧
  (∀ k0_t48 : Fin (k0_t48_loop v228 v257).trips, ∀ (hinb : ∀ a, (k0_off1839 v1 k0_t34 v228 v257 k0_t48) a + S1x1x1x16x128.size a ≤ S2x2x108x128x128.size a), (Rect.unit (s := S2x2x108x128x128) (k0_off1839 v1 k0_t34 v228 v257 k0_t48) S1x1x1x16x128.size hinb).PackedRows (EltTy.packing .bf16)) ∧
  (∀ k0_t48 : Fin (k0_t48_loop v228 v257).trips, ∀ a, (k0_off1840 v1 k0_t34 v228 v257 k0_t48) a + S1x1x1x16x128.size a ≤ S2x2x108x128x128.size a) ∧
  (∀ k0_t48 : Fin (k0_t48_loop v228 v257).trips, ∀ (hinb : ∀ a, (k0_off1840 v1 k0_t34 v228 v257 k0_t48) a + S1x1x1x16x128.size a ≤ S2x2x108x128x128.size a), (Rect.unit (s := S2x2x108x128x128) (k0_off1840 v1 k0_t34 v228 v257 k0_t48) S1x1x1x16x128.size hinb).PackedRows (EltTy.packing .bf16)) ∧
  (∀ k0_t48 : Fin (k0_t48_loop v228 v257).trips, ∀ a, (k0_off1841 v1 k0_t34 v228 v257 k0_t48) a + S1x1x1x16x128.size a ≤ S2x2x108x128x128.size a) ∧
  (∀ k0_t48 : Fin (k0_t48_loop v228 v257).trips, ∀ (hinb : ∀ a, (k0_off1841 v1 k0_t34 v228 v257 k0_t48) a + S1x1x1x16x128.size a ≤ S2x2x108x128x128.size a), (Rect.unit (s := S2x2x108x128x128) (k0_off1841 v1 k0_t34 v228 v257 k0_t48) S1x1x1x16x128.size hinb).PackedRows (EltTy.packing .bf16)) ∧
  (∀ k0_t48 : Fin (k0_t48_loop v228 v257).trips, ∀ a, (k0_off1842 v1 k0_t34 v228 v257 k0_t48) a + S1x1x1x16x128.size a ≤ S2x2x108x128x128.size a) ∧
  (∀ k0_t48 : Fin (k0_t48_loop v228 v257).trips, ∀ (hinb : ∀ a, (k0_off1842 v1 k0_t34 v228 v257 k0_t48) a + S1x1x1x16x128.size a ≤ S2x2x108x128x128.size a), (Rect.unit (s := S2x2x108x128x128) (k0_off1842 v1 k0_t34 v228 v257 k0_t48) S1x1x1x16x128.size hinb).PackedRows (EltTy.packing .bf16)) ∧
  (∀ k0_t48 : Fin (k0_t48_loop v228 v257).trips, ∀ a, (k0_off1843 v1 k0_t34 v228 v257 k0_t48) a + S1x1x1x16x128.size a ≤ S2x2x108x128x128.size a) ∧
  (∀ k0_t48 : Fin (k0_t48_loop v228 v257).trips, ∀ (hinb : ∀ a, (k0_off1843 v1 k0_t34 v228 v257 k0_t48) a + S1x1x1x16x128.size a ≤ S2x2x108x128x128.size a), (Rect.unit (s := S2x2x108x128x128) (k0_off1843 v1 k0_t34 v228 v257 k0_t48) S1x1x1x16x128.size hinb).PackedRows (EltTy.packing .bf16)) ∧
  (∀ k0_t48 : Fin (k0_t48_loop v228 v257).trips, ∀ a, (k0_off1844 v1 k0_t34 v228 v257 k0_t48) a + S1x1x1x16x128.size a ≤ S2x2x108x128x128.size a) ∧
  (∀ k0_t48 : Fin (k0_t48_loop v228 v257).trips, ∀ (hinb : ∀ a, (k0_off1844 v1 k0_t34 v228 v257 k0_t48) a + S1x1x1x16x128.size a ≤ S2x2x108x128x128.size a), (Rect.unit (s := S2x2x108x128x128) (k0_off1844 v1 k0_t34 v228 v257 k0_t48) S1x1x1x16x128.size hinb).PackedRows (EltTy.packing .bf16)) ∧
  (∀ k0_t48 : Fin (k0_t48_loop v228 v257).trips, ∀ a, (k0_off1845 v1 k0_t34 v228 v257 k0_t48) a + S1x1x1x16x128.size a ≤ S2x2x108x128x128.size a) ∧
  (∀ k0_t48 : Fin (k0_t48_loop v228 v257).trips, ∀ (hinb : ∀ a, (k0_off1845 v1 k0_t34 v228 v257 k0_t48) a + S1x1x1x16x128.size a ≤ S2x2x108x128x128.size a), (Rect.unit (s := S2x2x108x128x128) (k0_off1845 v1 k0_t34 v228 v257 k0_t48) S1x1x1x16x128.size hinb).PackedRows (EltTy.packing .bf16)) ∧
  (∀ k0_t48 : Fin (k0_t48_loop v228 v257).trips, ∀ a, (k0_off1846 v1 k0_t34 v228 v257 k0_t48) a + S1x1x1x16x128.size a ≤ S2x2x108x128x128.size a) ∧
  (∀ k0_t48 : Fin (k0_t48_loop v228 v257).trips, ∀ (hinb : ∀ a, (k0_off1846 v1 k0_t34 v228 v257 k0_t48) a + S1x1x1x16x128.size a ≤ S2x2x108x128x128.size a), (Rect.unit (s := S2x2x108x128x128) (k0_off1846 v1 k0_t34 v228 v257 k0_t48) S1x1x1x16x128.size hinb).PackedRows (EltTy.packing .bf16))
def k0_chk21_56 (v1 : BitVec 32) (k0_t34 : Fin (k0_t34_loop v1).trips) (v228 : BitVec 32) (v257 : BitVec 32) : Prop :=
  (∀ k0_t48 : Fin (k0_t48_loop v228 v257).trips, ∀ a, (k0_off1847 v1 k0_t34 v228 v257 k0_t48) a + S1x1x1x16x128.size a ≤ S2x2x108x128x128.size a) ∧
  (∀ k0_t48 : Fin (k0_t48_loop v228 v257).trips, ∀ (hinb : ∀ a, (k0_off1847 v1 k0_t34 v228 v257 k0_t48) a + S1x1x1x16x128.size a ≤ S2x2x108x128x128.size a), (Rect.unit (s := S2x2x108x128x128) (k0_off1847 v1 k0_t34 v228 v257 k0_t48) S1x1x1x16x128.size hinb).PackedRows (EltTy.packing .bf16)) ∧
  (∀ k0_t48 : Fin (k0_t48_loop v228 v257).trips, ∀ a, (k0_off1848 v1 k0_t34 v228 v257 k0_t48) a + S1x1x1x16x128.size a ≤ S2x2x108x128x128.size a) ∧
  (∀ k0_t48 : Fin (k0_t48_loop v228 v257).trips, ∀ (hinb : ∀ a, (k0_off1848 v1 k0_t34 v228 v257 k0_t48) a + S1x1x1x16x128.size a ≤ S2x2x108x128x128.size a), (Rect.unit (s := S2x2x108x128x128) (k0_off1848 v1 k0_t34 v228 v257 k0_t48) S1x1x1x16x128.size hinb).PackedRows (EltTy.packing .bf16)) ∧
  (∀ k0_t48 : Fin (k0_t48_loop v228 v257).trips, ∀ a, (k0_off1849 v1 k0_t34 v228 v257 k0_t48) a + S1x1x1x16x128.size a ≤ S2x2x108x128x128.size a) ∧
  (∀ k0_t48 : Fin (k0_t48_loop v228 v257).trips, ∀ (hinb : ∀ a, (k0_off1849 v1 k0_t34 v228 v257 k0_t48) a + S1x1x1x16x128.size a ≤ S2x2x108x128x128.size a), (Rect.unit (s := S2x2x108x128x128) (k0_off1849 v1 k0_t34 v228 v257 k0_t48) S1x1x1x16x128.size hinb).PackedRows (EltTy.packing .bf16)) ∧
  (∀ k0_t48 : Fin (k0_t48_loop v228 v257).trips, ∀ a, (k0_off1850 v1 k0_t34 v228 v257 k0_t48) a + S1x1x1x16x128.size a ≤ S2x2x108x128x128.size a) ∧
  (∀ k0_t48 : Fin (k0_t48_loop v228 v257).trips, ∀ (hinb : ∀ a, (k0_off1850 v1 k0_t34 v228 v257 k0_t48) a + S1x1x1x16x128.size a ≤ S2x2x108x128x128.size a), (Rect.unit (s := S2x2x108x128x128) (k0_off1850 v1 k0_t34 v228 v257 k0_t48) S1x1x1x16x128.size hinb).PackedRows (EltTy.packing .bf16)) ∧
  (∀ k0_t48 : Fin (k0_t48_loop v228 v257).trips, ∀ a, (k0_off1851 v1 k0_t34 v228 v257 k0_t48) a + S1x1x1x16x128.size a ≤ S2x2x108x128x128.size a) ∧
  (∀ k0_t48 : Fin (k0_t48_loop v228 v257).trips, ∀ (hinb : ∀ a, (k0_off1851 v1 k0_t34 v228 v257 k0_t48) a + S1x1x1x16x128.size a ≤ S2x2x108x128x128.size a), (Rect.unit (s := S2x2x108x128x128) (k0_off1851 v1 k0_t34 v228 v257 k0_t48) S1x1x1x16x128.size hinb).PackedRows (EltTy.packing .bf16)) ∧
  (∀ k0_t48 : Fin (k0_t48_loop v228 v257).trips, ∀ a, (k0_off1852 v1 k0_t34 v228 v257 k0_t48) a + S1x1x1x16x128.size a ≤ S2x2x108x128x128.size a) ∧
  (∀ k0_t48 : Fin (k0_t48_loop v228 v257).trips, ∀ (hinb : ∀ a, (k0_off1852 v1 k0_t34 v228 v257 k0_t48) a + S1x1x1x16x128.size a ≤ S2x2x108x128x128.size a), (Rect.unit (s := S2x2x108x128x128) (k0_off1852 v1 k0_t34 v228 v257 k0_t48) S1x1x1x16x128.size hinb).PackedRows (EltTy.packing .bf16)) ∧
  (∀ k0_t48 : Fin (k0_t48_loop v228 v257).trips, ∀ a, (k0_off1853 v1 k0_t34 v228 v257 k0_t48) a + S1x1x1x16x128.size a ≤ S2x2x108x128x128.size a) ∧
  (∀ k0_t48 : Fin (k0_t48_loop v228 v257).trips, ∀ (hinb : ∀ a, (k0_off1853 v1 k0_t34 v228 v257 k0_t48) a + S1x1x1x16x128.size a ≤ S2x2x108x128x128.size a), (Rect.unit (s := S2x2x108x128x128) (k0_off1853 v1 k0_t34 v228 v257 k0_t48) S1x1x1x16x128.size hinb).PackedRows (EltTy.packing .bf16)) ∧
  (∀ k0_t48 : Fin (k0_t48_loop v228 v257).trips, ∀ a, (k0_off1854 v1 k0_t34 v228 v257 k0_t48) a + S1x1x1x16x128.size a ≤ S2x2x108x128x128.size a) ∧
  (∀ k0_t48 : Fin (k0_t48_loop v228 v257).trips, ∀ (hinb : ∀ a, (k0_off1854 v1 k0_t34 v228 v257 k0_t48) a + S1x1x1x16x128.size a ≤ S2x2x108x128x128.size a), (Rect.unit (s := S2x2x108x128x128) (k0_off1854 v1 k0_t34 v228 v257 k0_t48) S1x1x1x16x128.size hinb).PackedRows (EltTy.packing .bf16)) ∧
  (∀ k0_t48 : Fin (k0_t48_loop v228 v257).trips, ∀ a, (k0_off1855 v1 k0_t34 v228 v257 k0_t48) a + S1x1x1x16x128.size a ≤ S2x2x108x128x128.size a) ∧
  (∀ k0_t48 : Fin (k0_t48_loop v228 v257).trips, ∀ (hinb : ∀ a, (k0_off1855 v1 k0_t34 v228 v257 k0_t48) a + S1x1x1x16x128.size a ≤ S2x2x108x128x128.size a), (Rect.unit (s := S2x2x108x128x128) (k0_off1855 v1 k0_t34 v228 v257 k0_t48) S1x1x1x16x128.size hinb).PackedRows (EltTy.packing .bf16)) ∧
  (∀ k0_t48 : Fin (k0_t48_loop v228 v257).trips, ∀ a, (k0_off1856 v1 k0_t34 v228 v257 k0_t48) a + S1x1x1x16x128.size a ≤ S2x2x108x128x128.size a) ∧
  (∀ k0_t48 : Fin (k0_t48_loop v228 v257).trips, ∀ (hinb : ∀ a, (k0_off1856 v1 k0_t34 v228 v257 k0_t48) a + S1x1x1x16x128.size a ≤ S2x2x108x128x128.size a), (Rect.unit (s := S2x2x108x128x128) (k0_off1856 v1 k0_t34 v228 v257 k0_t48) S1x1x1x16x128.size hinb).PackedRows (EltTy.packing .bf16)) ∧
  (∀ k0_t48 : Fin (k0_t48_loop v228 v257).trips, ∀ a, (k0_off1857 v1 k0_t34 v228 v257 k0_t48) a + S1x1x1x16x128.size a ≤ S2x2x108x128x128.size a) ∧
  (∀ k0_t48 : Fin (k0_t48_loop v228 v257).trips, ∀ (hinb : ∀ a, (k0_off1857 v1 k0_t34 v228 v257 k0_t48) a + S1x1x1x16x128.size a ≤ S2x2x108x128x128.size a), (Rect.unit (s := S2x2x108x128x128) (k0_off1857 v1 k0_t34 v228 v257 k0_t48) S1x1x1x16x128.size hinb).PackedRows (EltTy.packing .bf16)) ∧
  (∀ k0_t48 : Fin (k0_t48_loop v228 v257).trips, ∀ a, (k0_off1858 v1 k0_t34 v228 v257 k0_t48) a + S1x1x1x16x128.size a ≤ S2x2x108x128x128.size a) ∧
  (∀ k0_t48 : Fin (k0_t48_loop v228 v257).trips, ∀ (hinb : ∀ a, (k0_off1858 v1 k0_t34 v228 v257 k0_t48) a + S1x1x1x16x128.size a ≤ S2x2x108x128x128.size a), (Rect.unit (s := S2x2x108x128x128) (k0_off1858 v1 k0_t34 v228 v257 k0_t48) S1x1x1x16x128.size hinb).PackedRows (EltTy.packing .bf16)) ∧
  (∀ k0_t48 : Fin (k0_t48_loop v228 v257).trips, ∀ a, (k0_off1859 v1 k0_t34 v228 v257 k0_t48) a + S1x1x1x16x128.size a ≤ S2x2x108x128x128.size a) ∧
  (∀ k0_t48 : Fin (k0_t48_loop v228 v257).trips, ∀ (hinb : ∀ a, (k0_off1859 v1 k0_t34 v228 v257 k0_t48) a + S1x1x1x16x128.size a ≤ S2x2x108x128x128.size a), (Rect.unit (s := S2x2x108x128x128) (k0_off1859 v1 k0_t34 v228 v257 k0_t48) S1x1x1x16x128.size hinb).PackedRows (EltTy.packing .bf16)) ∧
  (∀ k0_t48 : Fin (k0_t48_loop v228 v257).trips, ∀ a, (k0_off1860 v1 k0_t34 v228 v257 k0_t48) a + S1x1x1x16x128.size a ≤ S2x2x108x128x128.size a) ∧
  (∀ k0_t48 : Fin (k0_t48_loop v228 v257).trips, ∀ (hinb : ∀ a, (k0_off1860 v1 k0_t34 v228 v257 k0_t48) a + S1x1x1x16x128.size a ≤ S2x2x108x128x128.size a), (Rect.unit (s := S2x2x108x128x128) (k0_off1860 v1 k0_t34 v228 v257 k0_t48) S1x1x1x16x128.size hinb).PackedRows (EltTy.packing .bf16)) ∧
  (∀ k0_t48 : Fin (k0_t48_loop v228 v257).trips, ∀ a, (k0_off1861 v1 k0_t34 v228 v257 k0_t48) a + S1x1x1x16x128.size a ≤ S2x2x108x128x128.size a) ∧
  (∀ k0_t48 : Fin (k0_t48_loop v228 v257).trips, ∀ (hinb : ∀ a, (k0_off1861 v1 k0_t34 v228 v257 k0_t48) a + S1x1x1x16x128.size a ≤ S2x2x108x128x128.size a), (Rect.unit (s := S2x2x108x128x128) (k0_off1861 v1 k0_t34 v228 v257 k0_t48) S1x1x1x16x128.size hinb).PackedRows (EltTy.packing .bf16)) ∧
  (∀ k0_t48 : Fin (k0_t48_loop v228 v257).trips, ∀ a, (k0_off1862 v1 k0_t34 v228 v257 k0_t48) a + S1x1x1x16x128.size a ≤ S2x2x108x128x128.size a) ∧
  (∀ k0_t48 : Fin (k0_t48_loop v228 v257).trips, ∀ (hinb : ∀ a, (k0_off1862 v1 k0_t34 v228 v257 k0_t48) a + S1x1x1x16x128.size a ≤ S2x2x108x128x128.size a), (Rect.unit (s := S2x2x108x128x128) (k0_off1862 v1 k0_t34 v228 v257 k0_t48) S1x1x1x16x128.size hinb).PackedRows (EltTy.packing .bf16))
def k0_chk21_57 (v1 : BitVec 32) (k0_t34 : Fin (k0_t34_loop v1).trips) (v228 : BitVec 32) (v257 : BitVec 32) : Prop :=
  (∀ k0_t48 : Fin (k0_t48_loop v228 v257).trips, ∀ a, (k0_off1863 v1 k0_t34 v228 v257 k0_t48) a + S1x1x1x16x128.size a ≤ S2x2x108x128x128.size a) ∧
  (∀ k0_t48 : Fin (k0_t48_loop v228 v257).trips, ∀ (hinb : ∀ a, (k0_off1863 v1 k0_t34 v228 v257 k0_t48) a + S1x1x1x16x128.size a ≤ S2x2x108x128x128.size a), (Rect.unit (s := S2x2x108x128x128) (k0_off1863 v1 k0_t34 v228 v257 k0_t48) S1x1x1x16x128.size hinb).PackedRows (EltTy.packing .bf16)) ∧
  (∀ k0_t48 : Fin (k0_t48_loop v228 v257).trips, ∀ a, (k0_off1864 v1 k0_t34 v228 v257 k0_t48) a + S1x1x1x16x128.size a ≤ S2x2x108x128x128.size a) ∧
  (∀ k0_t48 : Fin (k0_t48_loop v228 v257).trips, ∀ (hinb : ∀ a, (k0_off1864 v1 k0_t34 v228 v257 k0_t48) a + S1x1x1x16x128.size a ≤ S2x2x108x128x128.size a), (Rect.unit (s := S2x2x108x128x128) (k0_off1864 v1 k0_t34 v228 v257 k0_t48) S1x1x1x16x128.size hinb).PackedRows (EltTy.packing .bf16)) ∧
  (∀ k0_t48 : Fin (k0_t48_loop v228 v257).trips, ∀ a, (k0_off1865 v1 k0_t34 v228 v257 k0_t48) a + S1x1x1x16x128.size a ≤ S2x2x108x128x128.size a) ∧
  (∀ k0_t48 : Fin (k0_t48_loop v228 v257).trips, ∀ (hinb : ∀ a, (k0_off1865 v1 k0_t34 v228 v257 k0_t48) a + S1x1x1x16x128.size a ≤ S2x2x108x128x128.size a), (Rect.unit (s := S2x2x108x128x128) (k0_off1865 v1 k0_t34 v228 v257 k0_t48) S1x1x1x16x128.size hinb).PackedRows (EltTy.packing .bf16)) ∧
  (∀ k0_t48 : Fin (k0_t48_loop v228 v257).trips, ∀ a, (k0_off1866 v1 k0_t34 v228 v257 k0_t48) a + S1x1x1x16x128.size a ≤ S2x2x108x128x128.size a) ∧
  (∀ k0_t48 : Fin (k0_t48_loop v228 v257).trips, ∀ (hinb : ∀ a, (k0_off1866 v1 k0_t34 v228 v257 k0_t48) a + S1x1x1x16x128.size a ≤ S2x2x108x128x128.size a), (Rect.unit (s := S2x2x108x128x128) (k0_off1866 v1 k0_t34 v228 v257 k0_t48) S1x1x1x16x128.size hinb).PackedRows (EltTy.packing .bf16)) ∧
  (∀ k0_t48 : Fin (k0_t48_loop v228 v257).trips, ∀ a, (k0_off1867 v1 k0_t34 v228 v257 k0_t48) a + S1x1x1x16x128.size a ≤ S2x2x108x128x128.size a) ∧
  (∀ k0_t48 : Fin (k0_t48_loop v228 v257).trips, ∀ (hinb : ∀ a, (k0_off1867 v1 k0_t34 v228 v257 k0_t48) a + S1x1x1x16x128.size a ≤ S2x2x108x128x128.size a), (Rect.unit (s := S2x2x108x128x128) (k0_off1867 v1 k0_t34 v228 v257 k0_t48) S1x1x1x16x128.size hinb).PackedRows (EltTy.packing .bf16)) ∧
  (∀ k0_t48 : Fin (k0_t48_loop v228 v257).trips, ∀ a, (k0_off1868 v1 k0_t34 v228 v257 k0_t48) a + S1x1x1x16x128.size a ≤ S2x2x108x128x128.size a) ∧
  (∀ k0_t48 : Fin (k0_t48_loop v228 v257).trips, ∀ (hinb : ∀ a, (k0_off1868 v1 k0_t34 v228 v257 k0_t48) a + S1x1x1x16x128.size a ≤ S2x2x108x128x128.size a), (Rect.unit (s := S2x2x108x128x128) (k0_off1868 v1 k0_t34 v228 v257 k0_t48) S1x1x1x16x128.size hinb).PackedRows (EltTy.packing .bf16)) ∧
  (∀ k0_t48 : Fin (k0_t48_loop v228 v257).trips, ∀ a, (k0_off1869 v1 k0_t34 v228 v257 k0_t48) a + S1x1x1x16x128.size a ≤ S2x2x108x128x128.size a) ∧
  (∀ k0_t48 : Fin (k0_t48_loop v228 v257).trips, ∀ (hinb : ∀ a, (k0_off1869 v1 k0_t34 v228 v257 k0_t48) a + S1x1x1x16x128.size a ≤ S2x2x108x128x128.size a), (Rect.unit (s := S2x2x108x128x128) (k0_off1869 v1 k0_t34 v228 v257 k0_t48) S1x1x1x16x128.size hinb).PackedRows (EltTy.packing .bf16)) ∧
  (∀ k0_t48 : Fin (k0_t48_loop v228 v257).trips, ∀ a, (k0_off1870 v1 k0_t34 v228 v257 k0_t48) a + S1x1x1x16x128.size a ≤ S2x2x108x128x128.size a) ∧
  (∀ k0_t48 : Fin (k0_t48_loop v228 v257).trips, ∀ (hinb : ∀ a, (k0_off1870 v1 k0_t34 v228 v257 k0_t48) a + S1x1x1x16x128.size a ≤ S2x2x108x128x128.size a), (Rect.unit (s := S2x2x108x128x128) (k0_off1870 v1 k0_t34 v228 v257 k0_t48) S1x1x1x16x128.size hinb).PackedRows (EltTy.packing .bf16)) ∧
  (∀ k0_t48 : Fin (k0_t48_loop v228 v257).trips, ∀ a, (k0_off1871 v1 k0_t34 v228 v257 k0_t48) a + S1x1x1x16x128.size a ≤ S2x2x108x128x128.size a) ∧
  (∀ k0_t48 : Fin (k0_t48_loop v228 v257).trips, ∀ (hinb : ∀ a, (k0_off1871 v1 k0_t34 v228 v257 k0_t48) a + S1x1x1x16x128.size a ≤ S2x2x108x128x128.size a), (Rect.unit (s := S2x2x108x128x128) (k0_off1871 v1 k0_t34 v228 v257 k0_t48) S1x1x1x16x128.size hinb).PackedRows (EltTy.packing .bf16)) ∧
  (∀ k0_t48 : Fin (k0_t48_loop v228 v257).trips, ∀ a, (k0_off1872 v1 k0_t34 v228 v257 k0_t48) a + S1x1x1x16x128.size a ≤ S2x2x108x128x128.size a) ∧
  (∀ k0_t48 : Fin (k0_t48_loop v228 v257).trips, ∀ (hinb : ∀ a, (k0_off1872 v1 k0_t34 v228 v257 k0_t48) a + S1x1x1x16x128.size a ≤ S2x2x108x128x128.size a), (Rect.unit (s := S2x2x108x128x128) (k0_off1872 v1 k0_t34 v228 v257 k0_t48) S1x1x1x16x128.size hinb).PackedRows (EltTy.packing .bf16)) ∧
  (∀ k0_t48 : Fin (k0_t48_loop v228 v257).trips, ∀ a, (k0_off1873 v1 k0_t34 v228 v257 k0_t48) a + S1x1x1x16x128.size a ≤ S2x2x108x128x128.size a) ∧
  (∀ k0_t48 : Fin (k0_t48_loop v228 v257).trips, ∀ (hinb : ∀ a, (k0_off1873 v1 k0_t34 v228 v257 k0_t48) a + S1x1x1x16x128.size a ≤ S2x2x108x128x128.size a), (Rect.unit (s := S2x2x108x128x128) (k0_off1873 v1 k0_t34 v228 v257 k0_t48) S1x1x1x16x128.size hinb).PackedRows (EltTy.packing .bf16)) ∧
  (∀ k0_t48 : Fin (k0_t48_loop v228 v257).trips, ∀ a, (k0_off1874 v1 k0_t34 v228 v257 k0_t48) a + S1x1x1x16x128.size a ≤ S2x2x108x128x128.size a) ∧
  (∀ k0_t48 : Fin (k0_t48_loop v228 v257).trips, ∀ (hinb : ∀ a, (k0_off1874 v1 k0_t34 v228 v257 k0_t48) a + S1x1x1x16x128.size a ≤ S2x2x108x128x128.size a), (Rect.unit (s := S2x2x108x128x128) (k0_off1874 v1 k0_t34 v228 v257 k0_t48) S1x1x1x16x128.size hinb).PackedRows (EltTy.packing .bf16)) ∧
  (∀ k0_t48 : Fin (k0_t48_loop v228 v257).trips, ∀ a, (k0_off1875 v1 k0_t34 v228 v257 k0_t48) a + S1x1x1x16x128.size a ≤ S2x2x108x128x128.size a) ∧
  (∀ k0_t48 : Fin (k0_t48_loop v228 v257).trips, ∀ (hinb : ∀ a, (k0_off1875 v1 k0_t34 v228 v257 k0_t48) a + S1x1x1x16x128.size a ≤ S2x2x108x128x128.size a), (Rect.unit (s := S2x2x108x128x128) (k0_off1875 v1 k0_t34 v228 v257 k0_t48) S1x1x1x16x128.size hinb).PackedRows (EltTy.packing .bf16)) ∧
  (∀ k0_t48 : Fin (k0_t48_loop v228 v257).trips, ∀ a, (k0_off1876 v1 k0_t34 v228 v257 k0_t48) a + S1x1x1x16x128.size a ≤ S2x2x108x128x128.size a) ∧
  (∀ k0_t48 : Fin (k0_t48_loop v228 v257).trips, ∀ (hinb : ∀ a, (k0_off1876 v1 k0_t34 v228 v257 k0_t48) a + S1x1x1x16x128.size a ≤ S2x2x108x128x128.size a), (Rect.unit (s := S2x2x108x128x128) (k0_off1876 v1 k0_t34 v228 v257 k0_t48) S1x1x1x16x128.size hinb).PackedRows (EltTy.packing .bf16)) ∧
  (∀ k0_t48 : Fin (k0_t48_loop v228 v257).trips, ∀ a, (k0_off1877 v1 k0_t34 v228 v257 k0_t48) a + S1x1x1x16x128.size a ≤ S2x2x108x128x128.size a) ∧
  (∀ k0_t48 : Fin (k0_t48_loop v228 v257).trips, ∀ (hinb : ∀ a, (k0_off1877 v1 k0_t34 v228 v257 k0_t48) a + S1x1x1x16x128.size a ≤ S2x2x108x128x128.size a), (Rect.unit (s := S2x2x108x128x128) (k0_off1877 v1 k0_t34 v228 v257 k0_t48) S1x1x1x16x128.size hinb).PackedRows (EltTy.packing .bf16)) ∧
  (∀ k0_t48 : Fin (k0_t48_loop v228 v257).trips, ∀ a, (k0_off1878 v1 k0_t34 v228 v257 k0_t48) a + S1x1x1x16x128.size a ≤ S2x2x108x128x128.size a) ∧
  (∀ k0_t48 : Fin (k0_t48_loop v228 v257).trips, ∀ (hinb : ∀ a, (k0_off1878 v1 k0_t34 v228 v257 k0_t48) a + S1x1x1x16x128.size a ≤ S2x2x108x128x128.size a), (Rect.unit (s := S2x2x108x128x128) (k0_off1878 v1 k0_t34 v228 v257 k0_t48) S1x1x1x16x128.size hinb).PackedRows (EltTy.packing .bf16))
def k0_chk21_58 (v1 : BitVec 32) (k0_t34 : Fin (k0_t34_loop v1).trips) (v228 : BitVec 32) (v257 : BitVec 32) : Prop :=
  (∀ k0_t48 : Fin (k0_t48_loop v228 v257).trips, ∀ a, (k0_off1879 v1 k0_t34 v228 v257 k0_t48) a + S1x1x1x16x128.size a ≤ S2x2x108x128x128.size a) ∧
  (∀ k0_t48 : Fin (k0_t48_loop v228 v257).trips, ∀ (hinb : ∀ a, (k0_off1879 v1 k0_t34 v228 v257 k0_t48) a + S1x1x1x16x128.size a ≤ S2x2x108x128x128.size a), (Rect.unit (s := S2x2x108x128x128) (k0_off1879 v1 k0_t34 v228 v257 k0_t48) S1x1x1x16x128.size hinb).PackedRows (EltTy.packing .bf16)) ∧
  (∀ k0_t48 : Fin (k0_t48_loop v228 v257).trips, ∀ a, (k0_off1880 v1 k0_t34 v228 v257 k0_t48) a + S1x1x1x16x128.size a ≤ S2x2x108x128x128.size a) ∧
  (∀ k0_t48 : Fin (k0_t48_loop v228 v257).trips, ∀ (hinb : ∀ a, (k0_off1880 v1 k0_t34 v228 v257 k0_t48) a + S1x1x1x16x128.size a ≤ S2x2x108x128x128.size a), (Rect.unit (s := S2x2x108x128x128) (k0_off1880 v1 k0_t34 v228 v257 k0_t48) S1x1x1x16x128.size hinb).PackedRows (EltTy.packing .bf16)) ∧
  (∀ k0_t48 : Fin (k0_t48_loop v228 v257).trips, ∀ a, (k0_off1881 v1 k0_t34 v228 v257 k0_t48) a + S1x1x1x16x128.size a ≤ S2x2x108x128x128.size a) ∧
  (∀ k0_t48 : Fin (k0_t48_loop v228 v257).trips, ∀ (hinb : ∀ a, (k0_off1881 v1 k0_t34 v228 v257 k0_t48) a + S1x1x1x16x128.size a ≤ S2x2x108x128x128.size a), (Rect.unit (s := S2x2x108x128x128) (k0_off1881 v1 k0_t34 v228 v257 k0_t48) S1x1x1x16x128.size hinb).PackedRows (EltTy.packing .bf16)) ∧
  (∀ k0_t48 : Fin (k0_t48_loop v228 v257).trips, ∀ a, (k0_off1882 v1 k0_t34 v228 v257 k0_t48) a + S1x1x1x16x128.size a ≤ S2x2x108x128x128.size a) ∧
  (∀ k0_t48 : Fin (k0_t48_loop v228 v257).trips, ∀ (hinb : ∀ a, (k0_off1882 v1 k0_t34 v228 v257 k0_t48) a + S1x1x1x16x128.size a ≤ S2x2x108x128x128.size a), (Rect.unit (s := S2x2x108x128x128) (k0_off1882 v1 k0_t34 v228 v257 k0_t48) S1x1x1x16x128.size hinb).PackedRows (EltTy.packing .bf16)) ∧
  (∀ k0_t48 : Fin (k0_t48_loop v228 v257).trips, ∀ a, (k0_off1883 v1 k0_t34 v228 v257 k0_t48) a + S1x1x1x16x128.size a ≤ S2x2x108x128x128.size a) ∧
  (∀ k0_t48 : Fin (k0_t48_loop v228 v257).trips, ∀ (hinb : ∀ a, (k0_off1883 v1 k0_t34 v228 v257 k0_t48) a + S1x1x1x16x128.size a ≤ S2x2x108x128x128.size a), (Rect.unit (s := S2x2x108x128x128) (k0_off1883 v1 k0_t34 v228 v257 k0_t48) S1x1x1x16x128.size hinb).PackedRows (EltTy.packing .bf16)) ∧
  (∀ k0_t48 : Fin (k0_t48_loop v228 v257).trips, ∀ a, (k0_off1884 v1 k0_t34 v228 v257 k0_t48) a + S1x1x1x16x128.size a ≤ S2x2x108x128x128.size a) ∧
  (∀ k0_t48 : Fin (k0_t48_loop v228 v257).trips, ∀ (hinb : ∀ a, (k0_off1884 v1 k0_t34 v228 v257 k0_t48) a + S1x1x1x16x128.size a ≤ S2x2x108x128x128.size a), (Rect.unit (s := S2x2x108x128x128) (k0_off1884 v1 k0_t34 v228 v257 k0_t48) S1x1x1x16x128.size hinb).PackedRows (EltTy.packing .bf16)) ∧
  (∀ k0_t48 : Fin (k0_t48_loop v228 v257).trips, ∀ a, (k0_off1885 v1 k0_t34 v228 v257 k0_t48) a + S1x1x1x16x128.size a ≤ S2x2x108x128x128.size a) ∧
  (∀ k0_t48 : Fin (k0_t48_loop v228 v257).trips, ∀ (hinb : ∀ a, (k0_off1885 v1 k0_t34 v228 v257 k0_t48) a + S1x1x1x16x128.size a ≤ S2x2x108x128x128.size a), (Rect.unit (s := S2x2x108x128x128) (k0_off1885 v1 k0_t34 v228 v257 k0_t48) S1x1x1x16x128.size hinb).PackedRows (EltTy.packing .bf16)) ∧
  (∀ k0_t48 : Fin (k0_t48_loop v228 v257).trips, ∀ a, (k0_off1886 v1 k0_t34 v228 v257 k0_t48) a + S1x1x1x16x128.size a ≤ S2x2x108x128x128.size a) ∧
  (∀ k0_t48 : Fin (k0_t48_loop v228 v257).trips, ∀ (hinb : ∀ a, (k0_off1886 v1 k0_t34 v228 v257 k0_t48) a + S1x1x1x16x128.size a ≤ S2x2x108x128x128.size a), (Rect.unit (s := S2x2x108x128x128) (k0_off1886 v1 k0_t34 v228 v257 k0_t48) S1x1x1x16x128.size hinb).PackedRows (EltTy.packing .bf16)) ∧
  (∀ k0_t48 : Fin (k0_t48_loop v228 v257).trips, ∀ a, (k0_off1887 v1 k0_t34 v228 v257 k0_t48) a + S1x1x1x16x128.size a ≤ S2x2x108x128x128.size a) ∧
  (∀ k0_t48 : Fin (k0_t48_loop v228 v257).trips, ∀ (hinb : ∀ a, (k0_off1887 v1 k0_t34 v228 v257 k0_t48) a + S1x1x1x16x128.size a ≤ S2x2x108x128x128.size a), (Rect.unit (s := S2x2x108x128x128) (k0_off1887 v1 k0_t34 v228 v257 k0_t48) S1x1x1x16x128.size hinb).PackedRows (EltTy.packing .bf16)) ∧
  (∀ k0_t48 : Fin (k0_t48_loop v228 v257).trips, ∀ a, (k0_off1888 v1 k0_t34 v228 v257 k0_t48) a + S1x1x1x16x128.size a ≤ S2x2x108x128x128.size a) ∧
  (∀ k0_t48 : Fin (k0_t48_loop v228 v257).trips, ∀ (hinb : ∀ a, (k0_off1888 v1 k0_t34 v228 v257 k0_t48) a + S1x1x1x16x128.size a ≤ S2x2x108x128x128.size a), (Rect.unit (s := S2x2x108x128x128) (k0_off1888 v1 k0_t34 v228 v257 k0_t48) S1x1x1x16x128.size hinb).PackedRows (EltTy.packing .bf16)) ∧
  (∀ k0_t48 : Fin (k0_t48_loop v228 v257).trips, ∀ a, (k0_off1889 v1 k0_t34 v228 v257 k0_t48) a + S1x1x1x16x128.size a ≤ S2x2x108x128x128.size a) ∧
  (∀ k0_t48 : Fin (k0_t48_loop v228 v257).trips, ∀ (hinb : ∀ a, (k0_off1889 v1 k0_t34 v228 v257 k0_t48) a + S1x1x1x16x128.size a ≤ S2x2x108x128x128.size a), (Rect.unit (s := S2x2x108x128x128) (k0_off1889 v1 k0_t34 v228 v257 k0_t48) S1x1x1x16x128.size hinb).PackedRows (EltTy.packing .bf16)) ∧
  (∀ k0_t48 : Fin (k0_t48_loop v228 v257).trips, ∀ a, (k0_off1890 v1 k0_t34 v228 v257 k0_t48) a + S1x1x1x16x128.size a ≤ S2x2x108x128x128.size a) ∧
  (∀ k0_t48 : Fin (k0_t48_loop v228 v257).trips, ∀ (hinb : ∀ a, (k0_off1890 v1 k0_t34 v228 v257 k0_t48) a + S1x1x1x16x128.size a ≤ S2x2x108x128x128.size a), (Rect.unit (s := S2x2x108x128x128) (k0_off1890 v1 k0_t34 v228 v257 k0_t48) S1x1x1x16x128.size hinb).PackedRows (EltTy.packing .bf16)) ∧
  (∀ k0_t48 : Fin (k0_t48_loop v228 v257).trips, ∀ a, (k0_off1891 v1 k0_t34 v228 v257 k0_t48) a + S1x1x1x16x128.size a ≤ S2x2x108x128x128.size a) ∧
  (∀ k0_t48 : Fin (k0_t48_loop v228 v257).trips, ∀ (hinb : ∀ a, (k0_off1891 v1 k0_t34 v228 v257 k0_t48) a + S1x1x1x16x128.size a ≤ S2x2x108x128x128.size a), (Rect.unit (s := S2x2x108x128x128) (k0_off1891 v1 k0_t34 v228 v257 k0_t48) S1x1x1x16x128.size hinb).PackedRows (EltTy.packing .bf16)) ∧
  (∀ k0_t48 : Fin (k0_t48_loop v228 v257).trips, ∀ a, (k0_off1892 v1 k0_t34 v228 v257 k0_t48) a + S1x1x1x16x128.size a ≤ S2x2x108x128x128.size a) ∧
  (∀ k0_t48 : Fin (k0_t48_loop v228 v257).trips, ∀ (hinb : ∀ a, (k0_off1892 v1 k0_t34 v228 v257 k0_t48) a + S1x1x1x16x128.size a ≤ S2x2x108x128x128.size a), (Rect.unit (s := S2x2x108x128x128) (k0_off1892 v1 k0_t34 v228 v257 k0_t48) S1x1x1x16x128.size hinb).PackedRows (EltTy.packing .bf16)) ∧
  (∀ k0_t48 : Fin (k0_t48_loop v228 v257).trips, ∀ a, (k0_off1893 v1 k0_t34 v228 v257 k0_t48) a + S1x1x1x16x128.size a ≤ S2x2x108x128x128.size a) ∧
  (∀ k0_t48 : Fin (k0_t48_loop v228 v257).trips, ∀ (hinb : ∀ a, (k0_off1893 v1 k0_t34 v228 v257 k0_t48) a + S1x1x1x16x128.size a ≤ S2x2x108x128x128.size a), (Rect.unit (s := S2x2x108x128x128) (k0_off1893 v1 k0_t34 v228 v257 k0_t48) S1x1x1x16x128.size hinb).PackedRows (EltTy.packing .bf16)) ∧
  (∀ k0_t48 : Fin (k0_t48_loop v228 v257).trips, ∀ a, (k0_off1894 v1 k0_t34 v228 v257 k0_t48) a + S1x1x1x16x128.size a ≤ S2x2x108x128x128.size a) ∧
  (∀ k0_t48 : Fin (k0_t48_loop v228 v257).trips, ∀ (hinb : ∀ a, (k0_off1894 v1 k0_t34 v228 v257 k0_t48) a + S1x1x1x16x128.size a ≤ S2x2x108x128x128.size a), (Rect.unit (s := S2x2x108x128x128) (k0_off1894 v1 k0_t34 v228 v257 k0_t48) S1x1x1x16x128.size hinb).PackedRows (EltTy.packing .bf16))
def k0_chk21_59 (v1 : BitVec 32) (k0_t34 : Fin (k0_t34_loop v1).trips) (v228 : BitVec 32) (v257 : BitVec 32) : Prop :=
  (∀ k0_t48 : Fin (k0_t48_loop v228 v257).trips, ∀ a, (k0_off1895 v1 k0_t34 v228 v257 k0_t48) a + S1x1x1x16x128.size a ≤ S2x2x108x128x128.size a) ∧
  (∀ k0_t48 : Fin (k0_t48_loop v228 v257).trips, ∀ (hinb : ∀ a, (k0_off1895 v1 k0_t34 v228 v257 k0_t48) a + S1x1x1x16x128.size a ≤ S2x2x108x128x128.size a), (Rect.unit (s := S2x2x108x128x128) (k0_off1895 v1 k0_t34 v228 v257 k0_t48) S1x1x1x16x128.size hinb).PackedRows (EltTy.packing .bf16)) ∧
  (∀ k0_t48 : Fin (k0_t48_loop v228 v257).trips, ∀ a, (k0_off1896 v1 k0_t34 v228 v257 k0_t48) a + S1x1x1x16x128.size a ≤ S2x2x108x128x128.size a) ∧
  (∀ k0_t48 : Fin (k0_t48_loop v228 v257).trips, ∀ (hinb : ∀ a, (k0_off1896 v1 k0_t34 v228 v257 k0_t48) a + S1x1x1x16x128.size a ≤ S2x2x108x128x128.size a), (Rect.unit (s := S2x2x108x128x128) (k0_off1896 v1 k0_t34 v228 v257 k0_t48) S1x1x1x16x128.size hinb).PackedRows (EltTy.packing .bf16)) ∧
  (∀ k0_t48 : Fin (k0_t48_loop v228 v257).trips, ∀ a, (k0_off1897 v1 k0_t34 v228 v257 k0_t48) a + S1x1x1x16x128.size a ≤ S2x2x108x128x128.size a) ∧
  (∀ k0_t48 : Fin (k0_t48_loop v228 v257).trips, ∀ (hinb : ∀ a, (k0_off1897 v1 k0_t34 v228 v257 k0_t48) a + S1x1x1x16x128.size a ≤ S2x2x108x128x128.size a), (Rect.unit (s := S2x2x108x128x128) (k0_off1897 v1 k0_t34 v228 v257 k0_t48) S1x1x1x16x128.size hinb).PackedRows (EltTy.packing .bf16)) ∧
  (∀ k0_t48 : Fin (k0_t48_loop v228 v257).trips, ∀ a, (k0_off1898 v1 k0_t34 v228 v257 k0_t48) a + S1x1x1x16x128.size a ≤ S2x2x108x128x128.size a) ∧
  (∀ k0_t48 : Fin (k0_t48_loop v228 v257).trips, ∀ (hinb : ∀ a, (k0_off1898 v1 k0_t34 v228 v257 k0_t48) a + S1x1x1x16x128.size a ≤ S2x2x108x128x128.size a), (Rect.unit (s := S2x2x108x128x128) (k0_off1898 v1 k0_t34 v228 v257 k0_t48) S1x1x1x16x128.size hinb).PackedRows (EltTy.packing .bf16)) ∧
  (∀ k0_t48 : Fin (k0_t48_loop v228 v257).trips, ∀ a, (k0_off1899 v1 k0_t34 v228 v257 k0_t48) a + S1x1x1x16x128.size a ≤ S2x2x108x128x128.size a) ∧
  (∀ k0_t48 : Fin (k0_t48_loop v228 v257).trips, ∀ (hinb : ∀ a, (k0_off1899 v1 k0_t34 v228 v257 k0_t48) a + S1x1x1x16x128.size a ≤ S2x2x108x128x128.size a), (Rect.unit (s := S2x2x108x128x128) (k0_off1899 v1 k0_t34 v228 v257 k0_t48) S1x1x1x16x128.size hinb).PackedRows (EltTy.packing .bf16)) ∧
  (∀ k0_t48 : Fin (k0_t48_loop v228 v257).trips, ∀ a, (k0_off1900 v1 k0_t34 v228 v257 k0_t48) a + S1x1x1x16x128.size a ≤ S2x2x108x128x128.size a) ∧
  (∀ k0_t48 : Fin (k0_t48_loop v228 v257).trips, ∀ (hinb : ∀ a, (k0_off1900 v1 k0_t34 v228 v257 k0_t48) a + S1x1x1x16x128.size a ≤ S2x2x108x128x128.size a), (Rect.unit (s := S2x2x108x128x128) (k0_off1900 v1 k0_t34 v228 v257 k0_t48) S1x1x1x16x128.size hinb).PackedRows (EltTy.packing .bf16)) ∧
  (∀ k0_t48 : Fin (k0_t48_loop v228 v257).trips, ∀ a, (k0_off1901 v1 k0_t34 v228 v257 k0_t48) a + S1x1x1x16x128.size a ≤ S2x2x108x128x128.size a) ∧
  (∀ k0_t48 : Fin (k0_t48_loop v228 v257).trips, ∀ (hinb : ∀ a, (k0_off1901 v1 k0_t34 v228 v257 k0_t48) a + S1x1x1x16x128.size a ≤ S2x2x108x128x128.size a), (Rect.unit (s := S2x2x108x128x128) (k0_off1901 v1 k0_t34 v228 v257 k0_t48) S1x1x1x16x128.size hinb).PackedRows (EltTy.packing .bf16)) ∧
  (∀ k0_t48 : Fin (k0_t48_loop v228 v257).trips, ∀ a, (k0_off1902 v1 k0_t34 v228 v257 k0_t48) a + S1x1x1x16x128.size a ≤ S2x2x108x128x128.size a) ∧
  (∀ k0_t48 : Fin (k0_t48_loop v228 v257).trips, ∀ (hinb : ∀ a, (k0_off1902 v1 k0_t34 v228 v257 k0_t48) a + S1x1x1x16x128.size a ≤ S2x2x108x128x128.size a), (Rect.unit (s := S2x2x108x128x128) (k0_off1902 v1 k0_t34 v228 v257 k0_t48) S1x1x1x16x128.size hinb).PackedRows (EltTy.packing .bf16)) ∧
  (∀ k0_t48 : Fin (k0_t48_loop v228 v257).trips, ∀ a, (k0_off1903 v1 k0_t34 v228 v257 k0_t48) a + S1x1x1x16x128.size a ≤ S2x2x108x128x128.size a) ∧
  (∀ k0_t48 : Fin (k0_t48_loop v228 v257).trips, ∀ (hinb : ∀ a, (k0_off1903 v1 k0_t34 v228 v257 k0_t48) a + S1x1x1x16x128.size a ≤ S2x2x108x128x128.size a), (Rect.unit (s := S2x2x108x128x128) (k0_off1903 v1 k0_t34 v228 v257 k0_t48) S1x1x1x16x128.size hinb).PackedRows (EltTy.packing .bf16)) ∧
  (∀ k0_t48 : Fin (k0_t48_loop v228 v257).trips, ∀ a, (k0_off1904 v1 k0_t34 v228 v257 k0_t48) a + S1x1x1x16x128.size a ≤ S2x2x108x128x128.size a) ∧
  (∀ k0_t48 : Fin (k0_t48_loop v228 v257).trips, ∀ (hinb : ∀ a, (k0_off1904 v1 k0_t34 v228 v257 k0_t48) a + S1x1x1x16x128.size a ≤ S2x2x108x128x128.size a), (Rect.unit (s := S2x2x108x128x128) (k0_off1904 v1 k0_t34 v228 v257 k0_t48) S1x1x1x16x128.size hinb).PackedRows (EltTy.packing .bf16)) ∧
  (∀ k0_t48 : Fin (k0_t48_loop v228 v257).trips, ∀ a, (k0_off1905 v1 k0_t34 v228 v257 k0_t48) a + S1x1x1x16x128.size a ≤ S2x2x108x128x128.size a) ∧
  (∀ k0_t48 : Fin (k0_t48_loop v228 v257).trips, ∀ (hinb : ∀ a, (k0_off1905 v1 k0_t34 v228 v257 k0_t48) a + S1x1x1x16x128.size a ≤ S2x2x108x128x128.size a), (Rect.unit (s := S2x2x108x128x128) (k0_off1905 v1 k0_t34 v228 v257 k0_t48) S1x1x1x16x128.size hinb).PackedRows (EltTy.packing .bf16)) ∧
  (∀ k0_t48 : Fin (k0_t48_loop v228 v257).trips, ∀ a, (k0_off1906 v1 k0_t34 v228 v257 k0_t48) a + S1x1x1x16x128.size a ≤ S2x2x108x128x128.size a) ∧
  (∀ k0_t48 : Fin (k0_t48_loop v228 v257).trips, ∀ (hinb : ∀ a, (k0_off1906 v1 k0_t34 v228 v257 k0_t48) a + S1x1x1x16x128.size a ≤ S2x2x108x128x128.size a), (Rect.unit (s := S2x2x108x128x128) (k0_off1906 v1 k0_t34 v228 v257 k0_t48) S1x1x1x16x128.size hinb).PackedRows (EltTy.packing .bf16)) ∧
  (∀ k0_t48 : Fin (k0_t48_loop v228 v257).trips, ∀ a, (k0_off1907 v1 k0_t34 v228 v257 k0_t48) a + S1x1x1x16x128.size a ≤ S2x2x108x128x128.size a) ∧
  (∀ k0_t48 : Fin (k0_t48_loop v228 v257).trips, ∀ (hinb : ∀ a, (k0_off1907 v1 k0_t34 v228 v257 k0_t48) a + S1x1x1x16x128.size a ≤ S2x2x108x128x128.size a), (Rect.unit (s := S2x2x108x128x128) (k0_off1907 v1 k0_t34 v228 v257 k0_t48) S1x1x1x16x128.size hinb).PackedRows (EltTy.packing .bf16)) ∧
  (∀ k0_t48 : Fin (k0_t48_loop v228 v257).trips, ∀ a, (k0_off1908 v1 k0_t34 v228 v257 k0_t48) a + S1x1x1x16x128.size a ≤ S2x2x108x128x128.size a) ∧
  (∀ k0_t48 : Fin (k0_t48_loop v228 v257).trips, ∀ (hinb : ∀ a, (k0_off1908 v1 k0_t34 v228 v257 k0_t48) a + S1x1x1x16x128.size a ≤ S2x2x108x128x128.size a), (Rect.unit (s := S2x2x108x128x128) (k0_off1908 v1 k0_t34 v228 v257 k0_t48) S1x1x1x16x128.size hinb).PackedRows (EltTy.packing .bf16)) ∧
  (∀ k0_t48 : Fin (k0_t48_loop v228 v257).trips, ∀ a, (k0_off1909 v1 k0_t34 v228 v257 k0_t48) a + S1x1x1x16x128.size a ≤ S2x2x108x128x128.size a) ∧
  (∀ k0_t48 : Fin (k0_t48_loop v228 v257).trips, ∀ (hinb : ∀ a, (k0_off1909 v1 k0_t34 v228 v257 k0_t48) a + S1x1x1x16x128.size a ≤ S2x2x108x128x128.size a), (Rect.unit (s := S2x2x108x128x128) (k0_off1909 v1 k0_t34 v228 v257 k0_t48) S1x1x1x16x128.size hinb).PackedRows (EltTy.packing .bf16)) ∧
  (∀ k0_t48 : Fin (k0_t48_loop v228 v257).trips, ∀ a, (k0_off1910 v1 k0_t34 v228 v257 k0_t48) a + S1x1x1x16x128.size a ≤ S2x2x108x128x128.size a) ∧
  (∀ k0_t48 : Fin (k0_t48_loop v228 v257).trips, ∀ (hinb : ∀ a, (k0_off1910 v1 k0_t34 v228 v257 k0_t48) a + S1x1x1x16x128.size a ≤ S2x2x108x128x128.size a), (Rect.unit (s := S2x2x108x128x128) (k0_off1910 v1 k0_t34 v228 v257 k0_t48) S1x1x1x16x128.size hinb).PackedRows (EltTy.packing .bf16))
def k0_chk21_60 (v1 : BitVec 32) (k0_t34 : Fin (k0_t34_loop v1).trips) (v228 : BitVec 32) (v257 : BitVec 32) : Prop :=
  (∀ k0_t48 : Fin (k0_t48_loop v228 v257).trips, ∀ a, (k0_off1911 v1 k0_t34 v228 v257 k0_t48) a + S1x1x1x16x128.size a ≤ S2x2x108x128x128.size a) ∧
  (∀ k0_t48 : Fin (k0_t48_loop v228 v257).trips, ∀ (hinb : ∀ a, (k0_off1911 v1 k0_t34 v228 v257 k0_t48) a + S1x1x1x16x128.size a ≤ S2x2x108x128x128.size a), (Rect.unit (s := S2x2x108x128x128) (k0_off1911 v1 k0_t34 v228 v257 k0_t48) S1x1x1x16x128.size hinb).PackedRows (EltTy.packing .bf16)) ∧
  (∀ k0_t48 : Fin (k0_t48_loop v228 v257).trips, ∀ a, (k0_off1912 v1 k0_t34 v228 v257 k0_t48) a + S1x1x1x16x128.size a ≤ S2x2x108x128x128.size a) ∧
  (∀ k0_t48 : Fin (k0_t48_loop v228 v257).trips, ∀ (hinb : ∀ a, (k0_off1912 v1 k0_t34 v228 v257 k0_t48) a + S1x1x1x16x128.size a ≤ S2x2x108x128x128.size a), (Rect.unit (s := S2x2x108x128x128) (k0_off1912 v1 k0_t34 v228 v257 k0_t48) S1x1x1x16x128.size hinb).PackedRows (EltTy.packing .bf16)) ∧
  (∀ k0_t48 : Fin (k0_t48_loop v228 v257).trips, ∀ a, (k0_off1913 v1 k0_t34 v228 v257 k0_t48) a + S1x1x1x16x128.size a ≤ S2x2x108x128x128.size a) ∧
  (∀ k0_t48 : Fin (k0_t48_loop v228 v257).trips, ∀ (hinb : ∀ a, (k0_off1913 v1 k0_t34 v228 v257 k0_t48) a + S1x1x1x16x128.size a ≤ S2x2x108x128x128.size a), (Rect.unit (s := S2x2x108x128x128) (k0_off1913 v1 k0_t34 v228 v257 k0_t48) S1x1x1x16x128.size hinb).PackedRows (EltTy.packing .bf16)) ∧
  (∀ k0_t48 : Fin (k0_t48_loop v228 v257).trips, ∀ a, (k0_off1914 v1 k0_t34 v228 v257 k0_t48) a + S1x1x1x16x128.size a ≤ S2x2x108x128x128.size a) ∧
  (∀ k0_t48 : Fin (k0_t48_loop v228 v257).trips, ∀ (hinb : ∀ a, (k0_off1914 v1 k0_t34 v228 v257 k0_t48) a + S1x1x1x16x128.size a ≤ S2x2x108x128x128.size a), (Rect.unit (s := S2x2x108x128x128) (k0_off1914 v1 k0_t34 v228 v257 k0_t48) S1x1x1x16x128.size hinb).PackedRows (EltTy.packing .bf16)) ∧
  (∀ k0_t48 : Fin (k0_t48_loop v228 v257).trips, ∀ a, (k0_off1915 v1 k0_t34 v228 v257 k0_t48) a + S1x1x1x16x128.size a ≤ S2x2x108x128x128.size a) ∧
  (∀ k0_t48 : Fin (k0_t48_loop v228 v257).trips, ∀ (hinb : ∀ a, (k0_off1915 v1 k0_t34 v228 v257 k0_t48) a + S1x1x1x16x128.size a ≤ S2x2x108x128x128.size a), (Rect.unit (s := S2x2x108x128x128) (k0_off1915 v1 k0_t34 v228 v257 k0_t48) S1x1x1x16x128.size hinb).PackedRows (EltTy.packing .bf16)) ∧
  (∀ k0_t48 : Fin (k0_t48_loop v228 v257).trips, ∀ a, (k0_off1916 v1 k0_t34 v228 v257 k0_t48) a + S1x1x1x16x128.size a ≤ S2x2x108x128x128.size a) ∧
  (∀ k0_t48 : Fin (k0_t48_loop v228 v257).trips, ∀ (hinb : ∀ a, (k0_off1916 v1 k0_t34 v228 v257 k0_t48) a + S1x1x1x16x128.size a ≤ S2x2x108x128x128.size a), (Rect.unit (s := S2x2x108x128x128) (k0_off1916 v1 k0_t34 v228 v257 k0_t48) S1x1x1x16x128.size hinb).PackedRows (EltTy.packing .bf16)) ∧
  (∀ k0_t48 : Fin (k0_t48_loop v228 v257).trips, ∀ a, (k0_off1917 v1 k0_t34 v228 v257 k0_t48) a + S1x1x1x16x128.size a ≤ S2x2x108x128x128.size a) ∧
  (∀ k0_t48 : Fin (k0_t48_loop v228 v257).trips, ∀ (hinb : ∀ a, (k0_off1917 v1 k0_t34 v228 v257 k0_t48) a + S1x1x1x16x128.size a ≤ S2x2x108x128x128.size a), (Rect.unit (s := S2x2x108x128x128) (k0_off1917 v1 k0_t34 v228 v257 k0_t48) S1x1x1x16x128.size hinb).PackedRows (EltTy.packing .bf16)) ∧
  (∀ k0_t48 : Fin (k0_t48_loop v228 v257).trips, ∀ a, (k0_off1918 v1 k0_t34 v228 v257 k0_t48) a + S1x1x1x16x128.size a ≤ S2x2x108x128x128.size a) ∧
  (∀ k0_t48 : Fin (k0_t48_loop v228 v257).trips, ∀ (hinb : ∀ a, (k0_off1918 v1 k0_t34 v228 v257 k0_t48) a + S1x1x1x16x128.size a ≤ S2x2x108x128x128.size a), (Rect.unit (s := S2x2x108x128x128) (k0_off1918 v1 k0_t34 v228 v257 k0_t48) S1x1x1x16x128.size hinb).PackedRows (EltTy.packing .bf16)) ∧
  (∀ k0_t48 : Fin (k0_t48_loop v228 v257).trips, ∀ a, (k0_off1919 v1 k0_t34 v228 v257 k0_t48) a + S1x1x1x16x128.size a ≤ S2x2x108x128x128.size a) ∧
  (∀ k0_t48 : Fin (k0_t48_loop v228 v257).trips, ∀ (hinb : ∀ a, (k0_off1919 v1 k0_t34 v228 v257 k0_t48) a + S1x1x1x16x128.size a ≤ S2x2x108x128x128.size a), (Rect.unit (s := S2x2x108x128x128) (k0_off1919 v1 k0_t34 v228 v257 k0_t48) S1x1x1x16x128.size hinb).PackedRows (EltTy.packing .bf16)) ∧
  (∀ k0_t48 : Fin (k0_t48_loop v228 v257).trips, ∀ a, (k0_off1920 v1 k0_t34 v228 v257 k0_t48) a + S1x1x1x16x128.size a ≤ S2x2x108x128x128.size a) ∧
  (∀ k0_t48 : Fin (k0_t48_loop v228 v257).trips, ∀ (hinb : ∀ a, (k0_off1920 v1 k0_t34 v228 v257 k0_t48) a + S1x1x1x16x128.size a ≤ S2x2x108x128x128.size a), (Rect.unit (s := S2x2x108x128x128) (k0_off1920 v1 k0_t34 v228 v257 k0_t48) S1x1x1x16x128.size hinb).PackedRows (EltTy.packing .bf16)) ∧
  (∀ k0_t48 : Fin (k0_t48_loop v228 v257).trips, ∀ a, (k0_off1921 v1 k0_t34 v228 v257 k0_t48) a + S1x1x1x16x128.size a ≤ S2x2x108x128x128.size a) ∧
  (∀ k0_t48 : Fin (k0_t48_loop v228 v257).trips, ∀ (hinb : ∀ a, (k0_off1921 v1 k0_t34 v228 v257 k0_t48) a + S1x1x1x16x128.size a ≤ S2x2x108x128x128.size a), (Rect.unit (s := S2x2x108x128x128) (k0_off1921 v1 k0_t34 v228 v257 k0_t48) S1x1x1x16x128.size hinb).PackedRows (EltTy.packing .bf16)) ∧
  (∀ k0_t48 : Fin (k0_t48_loop v228 v257).trips, ∀ a, (k0_off1922 v1 k0_t34 v228 v257 k0_t48) a + S1x1x1x16x128.size a ≤ S2x2x108x128x128.size a) ∧
  (∀ k0_t48 : Fin (k0_t48_loop v228 v257).trips, ∀ (hinb : ∀ a, (k0_off1922 v1 k0_t34 v228 v257 k0_t48) a + S1x1x1x16x128.size a ≤ S2x2x108x128x128.size a), (Rect.unit (s := S2x2x108x128x128) (k0_off1922 v1 k0_t34 v228 v257 k0_t48) S1x1x1x16x128.size hinb).PackedRows (EltTy.packing .bf16)) ∧
  (∀ k0_t48 : Fin (k0_t48_loop v228 v257).trips, ∀ a, (k0_off1923 v1 k0_t34 v228 v257 k0_t48) a + S1x1x1x16x128.size a ≤ S2x2x108x128x128.size a) ∧
  (∀ k0_t48 : Fin (k0_t48_loop v228 v257).trips, ∀ (hinb : ∀ a, (k0_off1923 v1 k0_t34 v228 v257 k0_t48) a + S1x1x1x16x128.size a ≤ S2x2x108x128x128.size a), (Rect.unit (s := S2x2x108x128x128) (k0_off1923 v1 k0_t34 v228 v257 k0_t48) S1x1x1x16x128.size hinb).PackedRows (EltTy.packing .bf16)) ∧
  (∀ k0_t48 : Fin (k0_t48_loop v228 v257).trips, ∀ a, (k0_off1924 v1 k0_t34 v228 v257 k0_t48) a + S1x1x1x16x128.size a ≤ S2x2x108x128x128.size a) ∧
  (∀ k0_t48 : Fin (k0_t48_loop v228 v257).trips, ∀ (hinb : ∀ a, (k0_off1924 v1 k0_t34 v228 v257 k0_t48) a + S1x1x1x16x128.size a ≤ S2x2x108x128x128.size a), (Rect.unit (s := S2x2x108x128x128) (k0_off1924 v1 k0_t34 v228 v257 k0_t48) S1x1x1x16x128.size hinb).PackedRows (EltTy.packing .bf16)) ∧
  (∀ k0_t48 : Fin (k0_t48_loop v228 v257).trips, ∀ a, (k0_off1925 v1 k0_t34 v228 v257 k0_t48) a + S1x1x1x16x128.size a ≤ S2x2x108x128x128.size a) ∧
  (∀ k0_t48 : Fin (k0_t48_loop v228 v257).trips, ∀ (hinb : ∀ a, (k0_off1925 v1 k0_t34 v228 v257 k0_t48) a + S1x1x1x16x128.size a ≤ S2x2x108x128x128.size a), (Rect.unit (s := S2x2x108x128x128) (k0_off1925 v1 k0_t34 v228 v257 k0_t48) S1x1x1x16x128.size hinb).PackedRows (EltTy.packing .bf16)) ∧
  (∀ k0_t48 : Fin (k0_t48_loop v228 v257).trips, ∀ a, (k0_off1926 v1 k0_t34 v228 v257 k0_t48) a + S1x1x1x16x128.size a ≤ S2x2x108x128x128.size a) ∧
  (∀ k0_t48 : Fin (k0_t48_loop v228 v257).trips, ∀ (hinb : ∀ a, (k0_off1926 v1 k0_t34 v228 v257 k0_t48) a + S1x1x1x16x128.size a ≤ S2x2x108x128x128.size a), (Rect.unit (s := S2x2x108x128x128) (k0_off1926 v1 k0_t34 v228 v257 k0_t48) S1x1x1x16x128.size hinb).PackedRows (EltTy.packing .bf16))
def k0_chk21_61 (v1 : BitVec 32) (k0_t34 : Fin (k0_t34_loop v1).trips) (v228 : BitVec 32) (v257 : BitVec 32) : Prop :=
  (∀ k0_t48 : Fin (k0_t48_loop v228 v257).trips, ∀ a, (k0_off1927 v1 k0_t34 v228 v257 k0_t48) a + S1x1x1x16x128.size a ≤ S2x2x108x128x128.size a) ∧
  (∀ k0_t48 : Fin (k0_t48_loop v228 v257).trips, ∀ (hinb : ∀ a, (k0_off1927 v1 k0_t34 v228 v257 k0_t48) a + S1x1x1x16x128.size a ≤ S2x2x108x128x128.size a), (Rect.unit (s := S2x2x108x128x128) (k0_off1927 v1 k0_t34 v228 v257 k0_t48) S1x1x1x16x128.size hinb).PackedRows (EltTy.packing .bf16)) ∧
  (∀ k0_t48 : Fin (k0_t48_loop v228 v257).trips, ∀ a, (k0_off1928 v1 k0_t34 v228 v257 k0_t48) a + S1x1x1x16x128.size a ≤ S2x2x108x128x128.size a) ∧
  (∀ k0_t48 : Fin (k0_t48_loop v228 v257).trips, ∀ (hinb : ∀ a, (k0_off1928 v1 k0_t34 v228 v257 k0_t48) a + S1x1x1x16x128.size a ≤ S2x2x108x128x128.size a), (Rect.unit (s := S2x2x108x128x128) (k0_off1928 v1 k0_t34 v228 v257 k0_t48) S1x1x1x16x128.size hinb).PackedRows (EltTy.packing .bf16)) ∧
  (∀ k0_t48 : Fin (k0_t48_loop v228 v257).trips, ∀ a, (k0_off1929 v1 k0_t34 v228 v257 k0_t48) a + S1x1x1x16x128.size a ≤ S2x2x108x128x128.size a) ∧
  (∀ k0_t48 : Fin (k0_t48_loop v228 v257).trips, ∀ (hinb : ∀ a, (k0_off1929 v1 k0_t34 v228 v257 k0_t48) a + S1x1x1x16x128.size a ≤ S2x2x108x128x128.size a), (Rect.unit (s := S2x2x108x128x128) (k0_off1929 v1 k0_t34 v228 v257 k0_t48) S1x1x1x16x128.size hinb).PackedRows (EltTy.packing .bf16)) ∧
  (∀ k0_t48 : Fin (k0_t48_loop v228 v257).trips, ∀ a, (k0_off1930 v1 k0_t34 v228 v257 k0_t48) a + S1x1x1x16x128.size a ≤ S2x2x108x128x128.size a) ∧
  (∀ k0_t48 : Fin (k0_t48_loop v228 v257).trips, ∀ (hinb : ∀ a, (k0_off1930 v1 k0_t34 v228 v257 k0_t48) a + S1x1x1x16x128.size a ≤ S2x2x108x128x128.size a), (Rect.unit (s := S2x2x108x128x128) (k0_off1930 v1 k0_t34 v228 v257 k0_t48) S1x1x1x16x128.size hinb).PackedRows (EltTy.packing .bf16)) ∧
  (∀ k0_t48 : Fin (k0_t48_loop v228 v257).trips, ∀ a, (k0_off1931 v1 k0_t34 v228 v257 k0_t48) a + S1x1x1x16x128.size a ≤ S2x2x108x128x128.size a) ∧
  (∀ k0_t48 : Fin (k0_t48_loop v228 v257).trips, ∀ (hinb : ∀ a, (k0_off1931 v1 k0_t34 v228 v257 k0_t48) a + S1x1x1x16x128.size a ≤ S2x2x108x128x128.size a), (Rect.unit (s := S2x2x108x128x128) (k0_off1931 v1 k0_t34 v228 v257 k0_t48) S1x1x1x16x128.size hinb).PackedRows (EltTy.packing .bf16)) ∧
  (∀ k0_t48 : Fin (k0_t48_loop v228 v257).trips, ∀ a, (k0_off1932 v1 k0_t34 v228 v257 k0_t48) a + S1x1x1x16x128.size a ≤ S2x2x108x128x128.size a) ∧
  (∀ k0_t48 : Fin (k0_t48_loop v228 v257).trips, ∀ (hinb : ∀ a, (k0_off1932 v1 k0_t34 v228 v257 k0_t48) a + S1x1x1x16x128.size a ≤ S2x2x108x128x128.size a), (Rect.unit (s := S2x2x108x128x128) (k0_off1932 v1 k0_t34 v228 v257 k0_t48) S1x1x1x16x128.size hinb).PackedRows (EltTy.packing .bf16)) ∧
  (∀ k0_t48 : Fin (k0_t48_loop v228 v257).trips, ∀ a, (k0_off1933 v1 k0_t34 v228 v257 k0_t48) a + S1x1x1x16x128.size a ≤ S2x2x108x128x128.size a) ∧
  (∀ k0_t48 : Fin (k0_t48_loop v228 v257).trips, ∀ (hinb : ∀ a, (k0_off1933 v1 k0_t34 v228 v257 k0_t48) a + S1x1x1x16x128.size a ≤ S2x2x108x128x128.size a), (Rect.unit (s := S2x2x108x128x128) (k0_off1933 v1 k0_t34 v228 v257 k0_t48) S1x1x1x16x128.size hinb).PackedRows (EltTy.packing .bf16)) ∧
  (∀ k0_t48 : Fin (k0_t48_loop v228 v257).trips, ∀ a, (k0_off1934 v1 k0_t34 v228 v257 k0_t48) a + S1x1x1x16x128.size a ≤ S2x2x108x128x128.size a) ∧
  (∀ k0_t48 : Fin (k0_t48_loop v228 v257).trips, ∀ (hinb : ∀ a, (k0_off1934 v1 k0_t34 v228 v257 k0_t48) a + S1x1x1x16x128.size a ≤ S2x2x108x128x128.size a), (Rect.unit (s := S2x2x108x128x128) (k0_off1934 v1 k0_t34 v228 v257 k0_t48) S1x1x1x16x128.size hinb).PackedRows (EltTy.packing .bf16)) ∧
  (∀ k0_t48 : Fin (k0_t48_loop v228 v257).trips, ∀ a, (k0_off1935 v1 k0_t34 v228 v257 k0_t48) a + S1x1x1x16x128.size a ≤ S2x2x108x128x128.size a) ∧
  (∀ k0_t48 : Fin (k0_t48_loop v228 v257).trips, ∀ (hinb : ∀ a, (k0_off1935 v1 k0_t34 v228 v257 k0_t48) a + S1x1x1x16x128.size a ≤ S2x2x108x128x128.size a), (Rect.unit (s := S2x2x108x128x128) (k0_off1935 v1 k0_t34 v228 v257 k0_t48) S1x1x1x16x128.size hinb).PackedRows (EltTy.packing .bf16)) ∧
  (∀ k0_t48 : Fin (k0_t48_loop v228 v257).trips, ∀ a, (k0_off1936 v1 k0_t34 v228 v257 k0_t48) a + S1x1x1x16x128.size a ≤ S2x2x108x128x128.size a) ∧
  (∀ k0_t48 : Fin (k0_t48_loop v228 v257).trips, ∀ (hinb : ∀ a, (k0_off1936 v1 k0_t34 v228 v257 k0_t48) a + S1x1x1x16x128.size a ≤ S2x2x108x128x128.size a), (Rect.unit (s := S2x2x108x128x128) (k0_off1936 v1 k0_t34 v228 v257 k0_t48) S1x1x1x16x128.size hinb).PackedRows (EltTy.packing .bf16)) ∧
  (∀ k0_t48 : Fin (k0_t48_loop v228 v257).trips, ∀ a, (k0_off1937 v1 k0_t34 v228 v257 k0_t48) a + S1x1x1x16x128.size a ≤ S2x2x108x128x128.size a) ∧
  (∀ k0_t48 : Fin (k0_t48_loop v228 v257).trips, ∀ (hinb : ∀ a, (k0_off1937 v1 k0_t34 v228 v257 k0_t48) a + S1x1x1x16x128.size a ≤ S2x2x108x128x128.size a), (Rect.unit (s := S2x2x108x128x128) (k0_off1937 v1 k0_t34 v228 v257 k0_t48) S1x1x1x16x128.size hinb).PackedRows (EltTy.packing .bf16)) ∧
  (∀ k0_t48 : Fin (k0_t48_loop v228 v257).trips, ∀ a, (k0_off1938 v1 k0_t34 v228 v257 k0_t48) a + S1x1x1x16x128.size a ≤ S2x2x108x128x128.size a) ∧
  (∀ k0_t48 : Fin (k0_t48_loop v228 v257).trips, ∀ (hinb : ∀ a, (k0_off1938 v1 k0_t34 v228 v257 k0_t48) a + S1x1x1x16x128.size a ≤ S2x2x108x128x128.size a), (Rect.unit (s := S2x2x108x128x128) (k0_off1938 v1 k0_t34 v228 v257 k0_t48) S1x1x1x16x128.size hinb).PackedRows (EltTy.packing .bf16)) ∧
  (∀ k0_t48 : Fin (k0_t48_loop v228 v257).trips, ∀ a, (k0_off1939 v1 k0_t34 v228 v257 k0_t48) a + S1x1x1x16x128.size a ≤ S2x2x108x128x128.size a) ∧
  (∀ k0_t48 : Fin (k0_t48_loop v228 v257).trips, ∀ (hinb : ∀ a, (k0_off1939 v1 k0_t34 v228 v257 k0_t48) a + S1x1x1x16x128.size a ≤ S2x2x108x128x128.size a), (Rect.unit (s := S2x2x108x128x128) (k0_off1939 v1 k0_t34 v228 v257 k0_t48) S1x1x1x16x128.size hinb).PackedRows (EltTy.packing .bf16)) ∧
  (∀ k0_t48 : Fin (k0_t48_loop v228 v257).trips, ∀ a, (k0_off1940 v1 k0_t34 v228 v257 k0_t48) a + S1x1x1x16x128.size a ≤ S2x2x108x128x128.size a) ∧
  (∀ k0_t48 : Fin (k0_t48_loop v228 v257).trips, ∀ (hinb : ∀ a, (k0_off1940 v1 k0_t34 v228 v257 k0_t48) a + S1x1x1x16x128.size a ≤ S2x2x108x128x128.size a), (Rect.unit (s := S2x2x108x128x128) (k0_off1940 v1 k0_t34 v228 v257 k0_t48) S1x1x1x16x128.size hinb).PackedRows (EltTy.packing .bf16)) ∧
  (∀ k0_t48 : Fin (k0_t48_loop v228 v257).trips, ∀ a, (k0_off1941 v1 k0_t34 v228 v257 k0_t48) a + S1x1x1x16x128.size a ≤ S2x2x108x128x128.size a) ∧
  (∀ k0_t48 : Fin (k0_t48_loop v228 v257).trips, ∀ (hinb : ∀ a, (k0_off1941 v1 k0_t34 v228 v257 k0_t48) a + S1x1x1x16x128.size a ≤ S2x2x108x128x128.size a), (Rect.unit (s := S2x2x108x128x128) (k0_off1941 v1 k0_t34 v228 v257 k0_t48) S1x1x1x16x128.size hinb).PackedRows (EltTy.packing .bf16)) ∧
  (∀ k0_t48 : Fin (k0_t48_loop v228 v257).trips, ∀ a, (k0_off1942 v1 k0_t34 v228 v257 k0_t48) a + S1x1x1x16x128.size a ≤ S2x2x108x128x128.size a) ∧
  (∀ k0_t48 : Fin (k0_t48_loop v228 v257).trips, ∀ (hinb : ∀ a, (k0_off1942 v1 k0_t34 v228 v257 k0_t48) a + S1x1x1x16x128.size a ≤ S2x2x108x128x128.size a), (Rect.unit (s := S2x2x108x128x128) (k0_off1942 v1 k0_t34 v228 v257 k0_t48) S1x1x1x16x128.size hinb).PackedRows (EltTy.packing .bf16))
def k0_chk21 (v1 : BitVec 32) (k0_t34 : Fin (k0_t34_loop v1).trips) (v228 : BitVec 32) (v257 : BitVec 32) : Prop :=
  k0_chk21_0 v1 k0_t34 v228 v257 ∧
  k0_chk21_1 v1 k0_t34 v228 v257 ∧
  k0_chk21_2 v1 k0_t34 v228 v257 ∧
  k0_chk21_3 v1 k0_t34 v228 v257 ∧
  k0_chk21_4 v1 k0_t34 v228 v257 ∧
  k0_chk21_5 v1 k0_t34 v228 v257 ∧
  k0_chk21_6 v1 k0_t34 v228 v257 ∧
  k0_chk21_7 v1 k0_t34 v228 v257 ∧
  k0_chk21_8 v1 k0_t34 v228 v257 ∧
  k0_chk21_9 v1 k0_t34 v228 v257 ∧
  k0_chk21_10 v1 k0_t34 v228 v257 ∧
  k0_chk21_11 v1 k0_t34 v228 v257 ∧
  k0_chk21_12 v1 k0_t34 v228 v257 ∧
  k0_chk21_13 v1 k0_t34 v228 v257 ∧
  k0_chk21_14 v1 k0_t34 v228 v257 ∧
  k0_chk21_15 v1 k0_t34 v228 v257 ∧
  k0_chk21_16 v1 k0_t34 v228 v257 ∧
  k0_chk21_17 v1 k0_t34 v228 v257 ∧
  k0_chk21_18 v1 k0_t34 v228 v257 ∧
  k0_chk21_19 v1 k0_t34 v228 v257 ∧
  k0_chk21_20 v1 k0_t34 v228 v257 ∧
  k0_chk21_21 v1 k0_t34 v228 v257 ∧
  k0_chk21_22 v1 k0_t34 v228 v257 ∧
  k0_chk21_23 v1 k0_t34 v228 v257 ∧
  k0_chk21_24 v1 k0_t34 v228 v257 ∧
  k0_chk21_25 v1 k0_t34 v228 v257 ∧
  k0_chk21_26 v1 k0_t34 v228 v257 ∧
  k0_chk21_27 v1 k0_t34 v228 v257 ∧
  k0_chk21_28 v1 k0_t34 v228 v257 ∧
  k0_chk21_29 v1 k0_t34 v228 v257 ∧
  k0_chk21_30 v1 k0_t34 v228 v257 ∧
  k0_chk21_31 v1 k0_t34 v228 v257 ∧
  k0_chk21_32 v1 k0_t34 v228 v257 ∧
  k0_chk21_33 v1 k0_t34 v228 v257 ∧
  k0_chk21_34 v1 k0_t34 v228 v257 ∧
  k0_chk21_35 v1 k0_t34 v228 v257 ∧
  k0_chk21_36 v1 k0_t34 v228 v257 ∧
  k0_chk21_37 v1 k0_t34 v228 v257 ∧
  k0_chk21_38 v1 k0_t34 v228 v257 ∧
  k0_chk21_39 v1 k0_t34 v228 v257 ∧
  k0_chk21_40 v1 k0_t34 v228 v257 ∧
  k0_chk21_41 v1 k0_t34 v228 v257 ∧
  k0_chk21_42 v1 k0_t34 v228 v257 ∧
  k0_chk21_43 v1 k0_t34 v228 v257 ∧
  k0_chk21_44 v1 k0_t34 v228 v257 ∧
  k0_chk21_45 v1 k0_t34 v228 v257 ∧
  k0_chk21_46 v1 k0_t34 v228 v257 ∧
  k0_chk21_47 v1 k0_t34 v228 v257 ∧
  k0_chk21_48 v1 k0_t34 v228 v257 ∧
  k0_chk21_49 v1 k0_t34 v228 v257 ∧
  k0_chk21_50 v1 k0_t34 v228 v257 ∧
  k0_chk21_51 v1 k0_t34 v228 v257 ∧
  k0_chk21_52 v1 k0_t34 v228 v257 ∧
  k0_chk21_53 v1 k0_t34 v228 v257 ∧
  k0_chk21_54 v1 k0_t34 v228 v257 ∧
  k0_chk21_55 v1 k0_t34 v228 v257 ∧
  k0_chk21_56 v1 k0_t34 v228 v257 ∧
  k0_chk21_57 v1 k0_t34 v228 v257 ∧
  k0_chk21_58 v1 k0_t34 v228 v257 ∧
  k0_chk21_59 v1 k0_t34 v228 v257 ∧
  k0_chk21_60 v1 k0_t34 v228 v257 ∧
  k0_chk21_61 v1 k0_t34 v228 v257
theorem k0_t35_ok : ∀ (v1 : BitVec 32) (k0_t34 : Fin (k0_t34_loop v1).trips) (v228 : BitVec 32) (v257 : BitVec 32) (k0_hw21 : k0_chk21 v1 k0_t34 v228 v257), (k0_t35_loop v228 v257).OK := fun v1 k0_t34 v228 v257 k0_hw21 => k0_hw21.1.1
theorem k0_off398_inb : ∀ (v1 : BitVec 32) (k0_t34 : Fin (k0_t34_loop v1).trips) (v228 : BitVec 32) (v257 : BitVec 32) (k0_hw21 : k0_chk21 v1 k0_t34 v228 v257) (k0_t35 : Fin (k0_t35_loop v228 v257).trips), ∀ a, (k0_off398 v1 k0_t34) a + S1x1.size a ≤ S2x2.size a := fun v1 k0_t34 v228 v257 k0_hw21 k0_t35 => k0_hw21.1.2.1 k0_t35
theorem k0_off399_inb : ∀ (v1 : BitVec 32) (k0_t34 : Fin (k0_t34_loop v1).trips) (v228 : BitVec 32) (v257 : BitVec 32) (k0_hw21 : k0_chk21 v1 k0_t34 v228 v257) (k0_t35 : Fin (k0_t35_loop v228 v257).trips), ∀ a, (k0_off399 v1 k0_t34 v228 v257 k0_t35) a + S1x1x1x1728x128.size a ≤ S2x2x8x1728x128.size a := fun v1 k0_t34 v228 v257 k0_hw21 k0_t35 => k0_hw21.1.2.2.1 k0_t35
theorem k0_off399_wordsfp8e4m3 : ∀ (v1 : BitVec 32) (k0_t34 : Fin (k0_t34_loop v1).trips) (v228 : BitVec 32) (v257 : BitVec 32) (k0_hw21 : k0_chk21 v1 k0_t34 v228 v257) (k0_t35 : Fin (k0_t35_loop v228 v257).trips), (Rect.unit (s := S2x2x8x1728x128) (k0_off399 v1 k0_t34 v228 v257 k0_t35) S1x1x1x1728x128.size (k0_off399_inb v1 k0_t34 v228 v257 k0_hw21 k0_t35)).WholeWords (EltTy.packing .fp8e4m3) := fun v1 k0_t34 v228 v257 k0_hw21 k0_t35 => k0_hw21.1.2.2.2.1 k0_t35 (k0_off399_inb v1 k0_t34 v228 v257 k0_hw21 k0_t35)
theorem k0_t36_ok : ∀ (v1 : BitVec 32) (k0_t34 : Fin (k0_t34_loop v1).trips) (v228 : BitVec 32) (v257 : BitVec 32) (k0_hw21 : k0_chk21 v1 k0_t34 v228 v257), (k0_t36_loop v228 v257).OK := fun v1 k0_t34 v228 v257 k0_hw21 => k0_hw21.1.2.2.2.2.1
theorem k0_off400_inb : ∀ (v1 : BitVec 32) (k0_t34 : Fin (k0_t34_loop v1).trips) (v228 : BitVec 32) (v257 : BitVec 32) (k0_hw21 : k0_chk21 v1 k0_t34 v228 v257) (k0_t36 : Fin (k0_t36_loop v228 v257).trips), ∀ a, (k0_off400 v1 k0_t34) a + S1x1.size a ≤ S2x2.size a := fun v1 k0_t34 v228 v257 k0_hw21 k0_t36 => k0_hw21.1.2.2.2.2.2.1 k0_t36
theorem k0_off401_inb : ∀ (v1 : BitVec 32) (k0_t34 : Fin (k0_t34_loop v1).trips) (v228 : BitVec 32) (v257 : BitVec 32) (k0_hw21 : k0_chk21 v1 k0_t34 v228 v257) (k0_t36 : Fin (k0_t36_loop v228 v257).trips), ∀ a, (k0_off401 v1 k0_t34 v228 v257 k0_t36) a + S1x1x1x1728x128.size a ≤ S2x2x8x1728x128.size a := fun v1 k0_t34 v228 v257 k0_hw21 k0_t36 => k0_hw21.1.2.2.2.2.2.2.1 k0_t36
theorem k0_off401_wordsfp8e4m3 : ∀ (v1 : BitVec 32) (k0_t34 : Fin (k0_t34_loop v1).trips) (v228 : BitVec 32) (v257 : BitVec 32) (k0_hw21 : k0_chk21 v1 k0_t34 v228 v257) (k0_t36 : Fin (k0_t36_loop v228 v257).trips), (Rect.unit (s := S2x2x8x1728x128) (k0_off401 v1 k0_t34 v228 v257 k0_t36) S1x1x1x1728x128.size (k0_off401_inb v1 k0_t34 v228 v257 k0_hw21 k0_t36)).WholeWords (EltTy.packing .fp8e4m3) := fun v1 k0_t34 v228 v257 k0_hw21 k0_t36 => k0_hw21.1.2.2.2.2.2.2.2.1 k0_t36 (k0_off401_inb v1 k0_t34 v228 v257 k0_hw21 k0_t36)
theorem k0_t37_ok : ∀ (v1 : BitVec 32) (k0_t34 : Fin (k0_t34_loop v1).trips) (v228 : BitVec 32) (v257 : BitVec 32) (k0_hw21 : k0_chk21 v1 k0_t34 v228 v257), (k0_t37_loop v228 v257).OK := fun v1 k0_t34 v228 v257 k0_hw21 => k0_hw21.1.2.2.2.2.2.2.2.2.1
theorem k0_off404_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off404 v228 v257 k0_t37) a + S1x1.size a ≤ S8x128.size a := fun v1 k0_t34 v228 v257 k0_hw21 k0_t37 => k0_hw21.1.2.2.2.2.2.2.2.2.2.1 k0_t37
theorem k0_off405_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off405 v228) a + S1.size a ≤ S8.size a := fun v1 k0_t34 v228 v257 k0_hw21 k0_t37 => k0_hw21.1.2.2.2.2.2.2.2.2.2.2.1 k0_t37
theorem k0_mult6_dvd : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), 16 ∣ (k0_mult6 v228 v257 k0_t37).toNat := fun v1 k0_t34 v228 v257 k0_hw21 k0_t37 => k0_hw21.1.2.2.2.2.2.2.2.2.2.2.2.1 k0_t37
theorem k0_off406_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off406 v1 k0_t34 v228 v257 k0_t37) a + S1x1x1x32x128.size a ≤ S2x2x8x1728x128.size a := fun v1 k0_t34 v228 v257 k0_hw21 k0_t37 => k0_hw21.1.2.2.2.2.2.2.2.2.2.2.2.2.1 k0_t37
theorem k0_off408_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off408 v1 k0_t34 v228 v257 k0_t37) a + S1x1x1x16x128.size a ≤ S2x2x108x128x128.size a := fun v1 k0_t34 v228 v257 k0_hw21 k0_t37 => k0_hw21.1.2.2.2.2.2.2.2.2.2.2.2.2.2.1 k0_t37
theorem k0_off408_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off408 v1 k0_t34 v228 v257 k0_t37) S1x1x1x16x128.size (k0_off408_inb v1 k0_t34 v228 v257 k0_hw21 k0_t37)).PackedRows (EltTy.packing .bf16) := fun v1 k0_t34 v228 v257 k0_hw21 k0_t37 => k0_hw21.1.2.2.2.2.2.2.2.2.2.2.2.2.2.2.1 k0_t37 (k0_off408_inb v1 k0_t34 v228 v257 k0_hw21 k0_t37)
theorem k0_off410_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off410 v1 k0_t34 v228 v257 k0_t37) a + S1x1x1x16x128.size a ≤ S2x2x108x128x128.size a := fun v1 k0_t34 v228 v257 k0_hw21 k0_t37 => k0_hw21.1.2.2.2.2.2.2.2.2.2.2.2.2.2.2.2.1 k0_t37
theorem k0_off410_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off410 v1 k0_t34 v228 v257 k0_t37) S1x1x1x16x128.size (k0_off410_inb v1 k0_t34 v228 v257 k0_hw21 k0_t37)).PackedRows (EltTy.packing .bf16) := fun v1 k0_t34 v228 v257 k0_hw21 k0_t37 => k0_hw21.1.2.2.2.2.2.2.2.2.2.2.2.2.2.2.2.2.1 k0_t37 (k0_off410_inb v1 k0_t34 v228 v257 k0_hw21 k0_t37)
theorem k0_off411_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off411 v1 k0_t34 v228 v257 k0_t37) a + S1x1x1x32x128.size a ≤ S2x2x8x1728x128.size a := fun v1 k0_t34 v228 v257 k0_hw21 k0_t37 => k0_hw21.1.2.2.2.2.2.2.2.2.2.2.2.2.2.2.2.2.2.1 k0_t37
theorem k0_off413_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off413 v1 k0_t34 v228 v257 k0_t37) a + S1x1x1x16x128.size a ≤ S2x2x108x128x128.size a := fun v1 k0_t34 v228 v257 k0_hw21 k0_t37 => k0_hw21.1.2.2.2.2.2.2.2.2.2.2.2.2.2.2.2.2.2.2.1 k0_t37
theorem k0_off413_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off413 v1 k0_t34 v228 v257 k0_t37) S1x1x1x16x128.size (k0_off413_inb v1 k0_t34 v228 v257 k0_hw21 k0_t37)).PackedRows (EltTy.packing .bf16) := fun v1 k0_t34 v228 v257 k0_hw21 k0_t37 => k0_hw21.1.2.2.2.2.2.2.2.2.2.2.2.2.2.2.2.2.2.2.2.1 k0_t37 (k0_off413_inb v1 k0_t34 v228 v257 k0_hw21 k0_t37)
theorem k0_off415_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off415 v1 k0_t34 v228 v257 k0_t37) a + S1x1x1x16x128.size a ≤ S2x2x108x128x128.size a := fun v1 k0_t34 v228 v257 k0_hw21 k0_t37 => k0_hw21.1.2.2.2.2.2.2.2.2.2.2.2.2.2.2.2.2.2.2.2.2.1 k0_t37
theorem k0_off415_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off415 v1 k0_t34 v228 v257 k0_t37) S1x1x1x16x128.size (k0_off415_inb v1 k0_t34 v228 v257 k0_hw21 k0_t37)).PackedRows (EltTy.packing .bf16) := fun v1 k0_t34 v228 v257 k0_hw21 k0_t37 => k0_hw21.1.2.2.2.2.2.2.2.2.2.2.2.2.2.2.2.2.2.2.2.2.2.1 k0_t37 (k0_off415_inb v1 k0_t34 v228 v257 k0_hw21 k0_t37)
theorem k0_off416_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off416 v1 k0_t34 v228 v257 k0_t37) a + S1x1x1x32x128.size a ≤ S2x2x8x1728x128.size a := fun v1 k0_t34 v228 v257 k0_hw21 k0_t37 => k0_hw21.1.2.2.2.2.2.2.2.2.2.2.2.2.2.2.2.2.2.2.2.2.2.2.1 k0_t37
theorem k0_off418_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off418 v1 k0_t34 v228 v257 k0_t37) a + S1x1x1x16x128.size a ≤ S2x2x108x128x128.size a := fun v1 k0_t34 v228 v257 k0_hw21 k0_t37 => k0_hw21.1.2.2.2.2.2.2.2.2.2.2.2.2.2.2.2.2.2.2.2.2.2.2.2.1 k0_t37
theorem k0_off418_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off418 v1 k0_t34 v228 v257 k0_t37) S1x1x1x16x128.size (k0_off418_inb v1 k0_t34 v228 v257 k0_hw21 k0_t37)).PackedRows (EltTy.packing .bf16) := fun v1 k0_t34 v228 v257 k0_hw21 k0_t37 => k0_hw21.1.2.2.2.2.2.2.2.2.2.2.2.2.2.2.2.2.2.2.2.2.2.2.2.2.1 k0_t37 (k0_off418_inb v1 k0_t34 v228 v257 k0_hw21 k0_t37)
theorem k0_off420_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off420 v1 k0_t34 v228 v257 k0_t37) a + S1x1x1x16x128.size a ≤ S2x2x108x128x128.size a := fun v1 k0_t34 v228 v257 k0_hw21 k0_t37 => k0_hw21.1.2.2.2.2.2.2.2.2.2.2.2.2.2.2.2.2.2.2.2.2.2.2.2.2.2.1 k0_t37
theorem k0_off420_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off420 v1 k0_t34 v228 v257 k0_t37) S1x1x1x16x128.size (k0_off420_inb v1 k0_t34 v228 v257 k0_hw21 k0_t37)).PackedRows (EltTy.packing .bf16) := fun v1 k0_t34 v228 v257 k0_hw21 k0_t37 => k0_hw21.1.2.2.2.2.2.2.2.2.2.2.2.2.2.2.2.2.2.2.2.2.2.2.2.2.2.2.1 k0_t37 (k0_off420_inb v1 k0_t34 v228 v257 k0_hw21 k0_t37)
theorem k0_off421_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off421 v1 k0_t34 v228 v257 k0_t37) a + S1x1x1x32x128.size a ≤ S2x2x8x1728x128.size a := fun v1 k0_t34 v228 v257 k0_hw21 k0_t37 => k0_hw21.1.2.2.2.2.2.2.2.2.2.2.2.2.2.2.2.2.2.2.2.2.2.2.2.2.2.2.2.1 k0_t37
theorem k0_off423_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off423 v1 k0_t34 v228 v257 k0_t37) a + S1x1x1x16x128.size a ≤ S2x2x108x128x128.size a := fun v1 k0_t34 v228 v257 k0_hw21 k0_t37 => k0_hw21.1.2.2.2.2.2.2.2.2.2.2.2.2.2.2.2.2.2.2.2.2.2.2.2.2.2.2.2.2.1 k0_t37
theorem k0_off423_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off423 v1 k0_t34 v228 v257 k0_t37) S1x1x1x16x128.size (k0_off423_inb v1 k0_t34 v228 v257 k0_hw21 k0_t37)).PackedRows (EltTy.packing .bf16) := fun v1 k0_t34 v228 v257 k0_hw21 k0_t37 => k0_hw21.1.2.2.2.2.2.2.2.2.2.2.2.2.2.2.2.2.2.2.2.2.2.2.2.2.2.2.2.2.2.1 k0_t37 (k0_off423_inb v1 k0_t34 v228 v257 k0_hw21 k0_t37)
theorem k0_off425_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off425 v1 k0_t34 v228 v257 k0_t37) a + S1x1x1x16x128.size a ≤ S2x2x108x128x128.size a := fun v1 k0_t34 v228 v257 k0_hw21 k0_t37 => k0_hw21.1.2.2.2.2.2.2.2.2.2.2.2.2.2.2.2.2.2.2.2.2.2.2.2.2.2.2.2.2.2.2.1 k0_t37
theorem k0_off425_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off425 v1 k0_t34 v228 v257 k0_t37) S1x1x1x16x128.size (k0_off425_inb v1 k0_t34 v228 v257 k0_hw21 k0_t37)).PackedRows (EltTy.packing .bf16) := fun v1 k0_t34 v228 v257 k0_hw21 k0_t37 => k0_hw21.1.2.2.2.2.2.2.2.2.2.2.2.2.2.2.2.2.2.2.2.2.2.2.2.2.2.2.2.2.2.2.2 k0_t37 (k0_off425_inb v1 k0_t34 v228 v257 k0_hw21 k0_t37)
theorem k0_off426_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off426 v1 k0_t34 v228 v257 k0_t37) a + S1x1x1x32x128.size a ≤ S2x2x8x1728x128.size a := fun v1 k0_t34 v228 v257 k0_hw21 k0_t37 => k0_hw21.2.1.1 k0_t37
theorem k0_off428_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off428 v1 k0_t34 v228 v257 k0_t37) a + S1x1x1x16x128.size a ≤ S2x2x108x128x128.size a := fun v1 k0_t34 v228 v257 k0_hw21 k0_t37 => k0_hw21.2.1.2.1 k0_t37
theorem k0_off428_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off428 v1 k0_t34 v228 v257 k0_t37) S1x1x1x16x128.size (k0_off428_inb v1 k0_t34 v228 v257 k0_hw21 k0_t37)).PackedRows (EltTy.packing .bf16) := fun v1 k0_t34 v228 v257 k0_hw21 k0_t37 => k0_hw21.2.1.2.2.1 k0_t37 (k0_off428_inb v1 k0_t34 v228 v257 k0_hw21 k0_t37)
theorem k0_off430_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off430 v1 k0_t34 v228 v257 k0_t37) a + S1x1x1x16x128.size a ≤ S2x2x108x128x128.size a := fun v1 k0_t34 v228 v257 k0_hw21 k0_t37 => k0_hw21.2.1.2.2.2.1 k0_t37
theorem k0_off430_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off430 v1 k0_t34 v228 v257 k0_t37) S1x1x1x16x128.size (k0_off430_inb v1 k0_t34 v228 v257 k0_hw21 k0_t37)).PackedRows (EltTy.packing .bf16) := fun v1 k0_t34 v228 v257 k0_hw21 k0_t37 => k0_hw21.2.1.2.2.2.2.1 k0_t37 (k0_off430_inb v1 k0_t34 v228 v257 k0_hw21 k0_t37)
theorem k0_off431_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off431 v1 k0_t34 v228 v257 k0_t37) a + S1x1x1x32x128.size a ≤ S2x2x8x1728x128.size a := fun v1 k0_t34 v228 v257 k0_hw21 k0_t37 => k0_hw21.2.1.2.2.2.2.2.1 k0_t37
theorem k0_off433_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off433 v1 k0_t34 v228 v257 k0_t37) a + S1x1x1x16x128.size a ≤ S2x2x108x128x128.size a := fun v1 k0_t34 v228 v257 k0_hw21 k0_t37 => k0_hw21.2.1.2.2.2.2.2.2.1 k0_t37
theorem k0_off433_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off433 v1 k0_t34 v228 v257 k0_t37) S1x1x1x16x128.size (k0_off433_inb v1 k0_t34 v228 v257 k0_hw21 k0_t37)).PackedRows (EltTy.packing .bf16) := fun v1 k0_t34 v228 v257 k0_hw21 k0_t37 => k0_hw21.2.1.2.2.2.2.2.2.2.1 k0_t37 (k0_off433_inb v1 k0_t34 v228 v257 k0_hw21 k0_t37)
theorem k0_off435_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off435 v1 k0_t34 v228 v257 k0_t37) a + S1x1x1x16x128.size a ≤ S2x2x108x128x128.size a := fun v1 k0_t34 v228 v257 k0_hw21 k0_t37 => k0_hw21.2.1.2.2.2.2.2.2.2.2.1 k0_t37
theorem k0_off435_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off435 v1 k0_t34 v228 v257 k0_t37) S1x1x1x16x128.size (k0_off435_inb v1 k0_t34 v228 v257 k0_hw21 k0_t37)).PackedRows (EltTy.packing .bf16) := fun v1 k0_t34 v228 v257 k0_hw21 k0_t37 => k0_hw21.2.1.2.2.2.2.2.2.2.2.2.1 k0_t37 (k0_off435_inb v1 k0_t34 v228 v257 k0_hw21 k0_t37)
theorem k0_off436_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off436 v1 k0_t34 v228 v257 k0_t37) a + S1x1x1x32x128.size a ≤ S2x2x8x1728x128.size a := fun v1 k0_t34 v228 v257 k0_hw21 k0_t37 => k0_hw21.2.1.2.2.2.2.2.2.2.2.2.2.1 k0_t37
theorem k0_off438_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off438 v1 k0_t34 v228 v257 k0_t37) a + S1x1x1x16x128.size a ≤ S2x2x108x128x128.size a := fun v1 k0_t34 v228 v257 k0_hw21 k0_t37 => k0_hw21.2.1.2.2.2.2.2.2.2.2.2.2.2.1 k0_t37
theorem k0_off438_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off438 v1 k0_t34 v228 v257 k0_t37) S1x1x1x16x128.size (k0_off438_inb v1 k0_t34 v228 v257 k0_hw21 k0_t37)).PackedRows (EltTy.packing .bf16) := fun v1 k0_t34 v228 v257 k0_hw21 k0_t37 => k0_hw21.2.1.2.2.2.2.2.2.2.2.2.2.2.2.1 k0_t37 (k0_off438_inb v1 k0_t34 v228 v257 k0_hw21 k0_t37)
theorem k0_off440_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off440 v1 k0_t34 v228 v257 k0_t37) a + S1x1x1x16x128.size a ≤ S2x2x108x128x128.size a := fun v1 k0_t34 v228 v257 k0_hw21 k0_t37 => k0_hw21.2.1.2.2.2.2.2.2.2.2.2.2.2.2.2.1 k0_t37
theorem k0_off440_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off440 v1 k0_t34 v228 v257 k0_t37) S1x1x1x16x128.size (k0_off440_inb v1 k0_t34 v228 v257 k0_hw21 k0_t37)).PackedRows (EltTy.packing .bf16) := fun v1 k0_t34 v228 v257 k0_hw21 k0_t37 => k0_hw21.2.1.2.2.2.2.2.2.2.2.2.2.2.2.2.2.1 k0_t37 (k0_off440_inb v1 k0_t34 v228 v257 k0_hw21 k0_t37)
theorem k0_off441_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off441 v1 k0_t34 v228 v257 k0_t37) a + S1x1x1x32x128.size a ≤ S2x2x8x1728x128.size a := fun v1 k0_t34 v228 v257 k0_hw21 k0_t37 => k0_hw21.2.1.2.2.2.2.2.2.2.2.2.2.2.2.2.2.2.1 k0_t37
theorem k0_off443_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off443 v1 k0_t34 v228 v257 k0_t37) a + S1x1x1x16x128.size a ≤ S2x2x108x128x128.size a := fun v1 k0_t34 v228 v257 k0_hw21 k0_t37 => k0_hw21.2.1.2.2.2.2.2.2.2.2.2.2.2.2.2.2.2.2.1 k0_t37
theorem k0_off443_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off443 v1 k0_t34 v228 v257 k0_t37) S1x1x1x16x128.size (k0_off443_inb v1 k0_t34 v228 v257 k0_hw21 k0_t37)).PackedRows (EltTy.packing .bf16) := fun v1 k0_t34 v228 v257 k0_hw21 k0_t37 => k0_hw21.2.1.2.2.2.2.2.2.2.2.2.2.2.2.2.2.2.2.2.1 k0_t37 (k0_off443_inb v1 k0_t34 v228 v257 k0_hw21 k0_t37)
theorem k0_off445_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off445 v1 k0_t34 v228 v257 k0_t37) a + S1x1x1x16x128.size a ≤ S2x2x108x128x128.size a := fun v1 k0_t34 v228 v257 k0_hw21 k0_t37 => k0_hw21.2.1.2.2.2.2.2.2.2.2.2.2.2.2.2.2.2.2.2.2.1 k0_t37
theorem k0_off445_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off445 v1 k0_t34 v228 v257 k0_t37) S1x1x1x16x128.size (k0_off445_inb v1 k0_t34 v228 v257 k0_hw21 k0_t37)).PackedRows (EltTy.packing .bf16) := fun v1 k0_t34 v228 v257 k0_hw21 k0_t37 => k0_hw21.2.1.2.2.2.2.2.2.2.2.2.2.2.2.2.2.2.2.2.2.2.1 k0_t37 (k0_off445_inb v1 k0_t34 v228 v257 k0_hw21 k0_t37)
theorem k0_off446_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off446 v1 k0_t34 v228 v257 k0_t37) a + S1x1x1x32x128.size a ≤ S2x2x8x1728x128.size a := fun v1 k0_t34 v228 v257 k0_hw21 k0_t37 => k0_hw21.2.1.2.2.2.2.2.2.2.2.2.2.2.2.2.2.2.2.2.2.2.2.1 k0_t37
theorem k0_off448_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off448 v1 k0_t34 v228 v257 k0_t37) a + S1x1x1x16x128.size a ≤ S2x2x108x128x128.size a := fun v1 k0_t34 v228 v257 k0_hw21 k0_t37 => k0_hw21.2.1.2.2.2.2.2.2.2.2.2.2.2.2.2.2.2.2.2.2.2.2.2.1 k0_t37
theorem k0_off448_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off448 v1 k0_t34 v228 v257 k0_t37) S1x1x1x16x128.size (k0_off448_inb v1 k0_t34 v228 v257 k0_hw21 k0_t37)).PackedRows (EltTy.packing .bf16) := fun v1 k0_t34 v228 v257 k0_hw21 k0_t37 => k0_hw21.2.1.2.2.2.2.2.2.2.2.2.2.2.2.2.2.2.2.2.2.2.2.2.2.1 k0_t37 (k0_off448_inb v1 k0_t34 v228 v257 k0_hw21 k0_t37)
theorem k0_off450_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off450 v1 k0_t34 v228 v257 k0_t37) a + S1x1x1x16x128.size a ≤ S2x2x108x128x128.size a := fun v1 k0_t34 v228 v257 k0_hw21 k0_t37 => k0_hw21.2.1.2.2.2.2.2.2.2.2.2.2.2.2.2.2.2.2.2.2.2.2.2.2.2.1 k0_t37
theorem k0_off450_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off450 v1 k0_t34 v228 v257 k0_t37) S1x1x1x16x128.size (k0_off450_inb v1 k0_t34 v228 v257 k0_hw21 k0_t37)).PackedRows (EltTy.packing .bf16) := fun v1 k0_t34 v228 v257 k0_hw21 k0_t37 => k0_hw21.2.1.2.2.2.2.2.2.2.2.2.2.2.2.2.2.2.2.2.2.2.2.2.2.2.2.1 k0_t37 (k0_off450_inb v1 k0_t34 v228 v257 k0_hw21 k0_t37)
theorem k0_off451_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off451 v1 k0_t34 v228 v257 k0_t37) a + S1x1x1x32x128.size a ≤ S2x2x8x1728x128.size a := fun v1 k0_t34 v228 v257 k0_hw21 k0_t37 => k0_hw21.2.1.2.2.2.2.2.2.2.2.2.2.2.2.2.2.2.2.2.2.2.2.2.2.2.2.2.1 k0_t37
theorem k0_off453_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off453 v1 k0_t34 v228 v257 k0_t37) a + S1x1x1x16x128.size a ≤ S2x2x108x128x128.size a := fun v1 k0_t34 v228 v257 k0_hw21 k0_t37 => k0_hw21.2.1.2.2.2.2.2.2.2.2.2.2.2.2.2.2.2.2.2.2.2.2.2.2.2.2.2.2.1 k0_t37
theorem k0_off453_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off453 v1 k0_t34 v228 v257 k0_t37) S1x1x1x16x128.size (k0_off453_inb v1 k0_t34 v228 v257 k0_hw21 k0_t37)).PackedRows (EltTy.packing .bf16) := fun v1 k0_t34 v228 v257 k0_hw21 k0_t37 => k0_hw21.2.1.2.2.2.2.2.2.2.2.2.2.2.2.2.2.2.2.2.2.2.2.2.2.2.2.2.2.2.1 k0_t37 (k0_off453_inb v1 k0_t34 v228 v257 k0_hw21 k0_t37)
theorem k0_off455_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off455 v1 k0_t34 v228 v257 k0_t37) a + S1x1x1x16x128.size a ≤ S2x2x108x128x128.size a := fun v1 k0_t34 v228 v257 k0_hw21 k0_t37 => k0_hw21.2.1.2.2.2.2.2.2.2.2.2.2.2.2.2.2.2.2.2.2.2.2.2.2.2.2.2.2.2.2.1 k0_t37
theorem k0_off455_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off455 v1 k0_t34 v228 v257 k0_t37) S1x1x1x16x128.size (k0_off455_inb v1 k0_t34 v228 v257 k0_hw21 k0_t37)).PackedRows (EltTy.packing .bf16) := fun v1 k0_t34 v228 v257 k0_hw21 k0_t37 => k0_hw21.2.1.2.2.2.2.2.2.2.2.2.2.2.2.2.2.2.2.2.2.2.2.2.2.2.2.2.2.2.2.2.1 k0_t37 (k0_off455_inb v1 k0_t34 v228 v257 k0_hw21 k0_t37)
theorem k0_off456_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off456 v1 k0_t34 v228 v257 k0_t37) a + S1x1x1x32x128.size a ≤ S2x2x8x1728x128.size a := fun v1 k0_t34 v228 v257 k0_hw21 k0_t37 => k0_hw21.2.1.2.2.2.2.2.2.2.2.2.2.2.2.2.2.2.2.2.2.2.2.2.2.2.2.2.2.2.2.2.2.1 k0_t37
theorem k0_off458_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off458 v1 k0_t34 v228 v257 k0_t37) a + S1x1x1x16x128.size a ≤ S2x2x108x128x128.size a := fun v1 k0_t34 v228 v257 k0_hw21 k0_t37 => k0_hw21.2.1.2.2.2.2.2.2.2.2.2.2.2.2.2.2.2.2.2.2.2.2.2.2.2.2.2.2.2.2.2.2.2 k0_t37
theorem k0_off458_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off458 v1 k0_t34 v228 v257 k0_t37) S1x1x1x16x128.size (k0_off458_inb v1 k0_t34 v228 v257 k0_hw21 k0_t37)).PackedRows (EltTy.packing .bf16) := fun v1 k0_t34 v228 v257 k0_hw21 k0_t37 => k0_hw21.2.2.1.1 k0_t37 (k0_off458_inb v1 k0_t34 v228 v257 k0_hw21 k0_t37)
theorem k0_off460_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off460 v1 k0_t34 v228 v257 k0_t37) a + S1x1x1x16x128.size a ≤ S2x2x108x128x128.size a := fun v1 k0_t34 v228 v257 k0_hw21 k0_t37 => k0_hw21.2.2.1.2.1 k0_t37
theorem k0_off460_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off460 v1 k0_t34 v228 v257 k0_t37) S1x1x1x16x128.size (k0_off460_inb v1 k0_t34 v228 v257 k0_hw21 k0_t37)).PackedRows (EltTy.packing .bf16) := fun v1 k0_t34 v228 v257 k0_hw21 k0_t37 => k0_hw21.2.2.1.2.2.1 k0_t37 (k0_off460_inb v1 k0_t34 v228 v257 k0_hw21 k0_t37)
theorem k0_off461_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off461 v1 k0_t34 v228 v257 k0_t37) a + S1x1x1x32x128.size a ≤ S2x2x8x1728x128.size a := fun v1 k0_t34 v228 v257 k0_hw21 k0_t37 => k0_hw21.2.2.1.2.2.2.1 k0_t37
theorem k0_off463_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off463 v1 k0_t34 v228 v257 k0_t37) a + S1x1x1x16x128.size a ≤ S2x2x108x128x128.size a := fun v1 k0_t34 v228 v257 k0_hw21 k0_t37 => k0_hw21.2.2.1.2.2.2.2.1 k0_t37
theorem k0_off463_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off463 v1 k0_t34 v228 v257 k0_t37) S1x1x1x16x128.size (k0_off463_inb v1 k0_t34 v228 v257 k0_hw21 k0_t37)).PackedRows (EltTy.packing .bf16) := fun v1 k0_t34 v228 v257 k0_hw21 k0_t37 => k0_hw21.2.2.1.2.2.2.2.2.1 k0_t37 (k0_off463_inb v1 k0_t34 v228 v257 k0_hw21 k0_t37)
theorem k0_off465_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off465 v1 k0_t34 v228 v257 k0_t37) a + S1x1x1x16x128.size a ≤ S2x2x108x128x128.size a := fun v1 k0_t34 v228 v257 k0_hw21 k0_t37 => k0_hw21.2.2.1.2.2.2.2.2.2.1 k0_t37
theorem k0_off465_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off465 v1 k0_t34 v228 v257 k0_t37) S1x1x1x16x128.size (k0_off465_inb v1 k0_t34 v228 v257 k0_hw21 k0_t37)).PackedRows (EltTy.packing .bf16) := fun v1 k0_t34 v228 v257 k0_hw21 k0_t37 => k0_hw21.2.2.1.2.2.2.2.2.2.2.1 k0_t37 (k0_off465_inb v1 k0_t34 v228 v257 k0_hw21 k0_t37)
theorem k0_off466_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off466 v1 k0_t34 v228 v257 k0_t37) a + S1x1x1x32x128.size a ≤ S2x2x8x1728x128.size a := fun v1 k0_t34 v228 v257 k0_hw21 k0_t37 => k0_hw21.2.2.1.2.2.2.2.2.2.2.2.1 k0_t37
theorem k0_off468_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off468 v1 k0_t34 v228 v257 k0_t37) a + S1x1x1x16x128.size a ≤ S2x2x108x128x128.size a := fun v1 k0_t34 v228 v257 k0_hw21 k0_t37 => k0_hw21.2.2.1.2.2.2.2.2.2.2.2.2.1 k0_t37
theorem k0_off468_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off468 v1 k0_t34 v228 v257 k0_t37) S1x1x1x16x128.size (k0_off468_inb v1 k0_t34 v228 v257 k0_hw21 k0_t37)).PackedRows (EltTy.packing .bf16) := fun v1 k0_t34 v228 v257 k0_hw21 k0_t37 => k0_hw21.2.2.1.2.2.2.2.2.2.2.2.2.2.1 k0_t37 (k0_off468_inb v1 k0_t34 v228 v257 k0_hw21 k0_t37)
theorem k0_off470_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off470 v1 k0_t34 v228 v257 k0_t37) a + S1x1x1x16x128.size a ≤ S2x2x108x128x128.size a := fun v1 k0_t34 v228 v257 k0_hw21 k0_t37 => k0_hw21.2.2.1.2.2.2.2.2.2.2.2.2.2.2.1 k0_t37
theorem k0_off470_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off470 v1 k0_t34 v228 v257 k0_t37) S1x1x1x16x128.size (k0_off470_inb v1 k0_t34 v228 v257 k0_hw21 k0_t37)).PackedRows (EltTy.packing .bf16) := fun v1 k0_t34 v228 v257 k0_hw21 k0_t37 => k0_hw21.2.2.1.2.2.2.2.2.2.2.2.2.2.2.2.1 k0_t37 (k0_off470_inb v1 k0_t34 v228 v257 k0_hw21 k0_t37)
theorem k0_off471_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off471 v1 k0_t34 v228 v257 k0_t37) a + S1x1x1x32x128.size a ≤ S2x2x8x1728x128.size a := fun v1 k0_t34 v228 v257 k0_hw21 k0_t37 => k0_hw21.2.2.1.2.2.2.2.2.2.2.2.2.2.2.2.2.1 k0_t37
theorem k0_off473_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off473 v1 k0_t34 v228 v257 k0_t37) a + S1x1x1x16x128.size a ≤ S2x2x108x128x128.size a := fun v1 k0_t34 v228 v257 k0_hw21 k0_t37 => k0_hw21.2.2.1.2.2.2.2.2.2.2.2.2.2.2.2.2.2.1 k0_t37
theorem k0_off473_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off473 v1 k0_t34 v228 v257 k0_t37) S1x1x1x16x128.size (k0_off473_inb v1 k0_t34 v228 v257 k0_hw21 k0_t37)).PackedRows (EltTy.packing .bf16) := fun v1 k0_t34 v228 v257 k0_hw21 k0_t37 => k0_hw21.2.2.1.2.2.2.2.2.2.2.2.2.2.2.2.2.2.2.1 k0_t37 (k0_off473_inb v1 k0_t34 v228 v257 k0_hw21 k0_t37)
theorem k0_off475_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off475 v1 k0_t34 v228 v257 k0_t37) a + S1x1x1x16x128.size a ≤ S2x2x108x128x128.size a := fun v1 k0_t34 v228 v257 k0_hw21 k0_t37 => k0_hw21.2.2.1.2.2.2.2.2.2.2.2.2.2.2.2.2.2.2.2.1 k0_t37
theorem k0_off475_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off475 v1 k0_t34 v228 v257 k0_t37) S1x1x1x16x128.size (k0_off475_inb v1 k0_t34 v228 v257 k0_hw21 k0_t37)).PackedRows (EltTy.packing .bf16) := fun v1 k0_t34 v228 v257 k0_hw21 k0_t37 => k0_hw21.2.2.1.2.2.2.2.2.2.2.2.2.2.2.2.2.2.2.2.2.1 k0_t37 (k0_off475_inb v1 k0_t34 v228 v257 k0_hw21 k0_t37)
theorem k0_off476_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off476 v1 k0_t34 v228 v257 k0_t37) a + S1x1x1x32x128.size a ≤ S2x2x8x1728x128.size a := fun v1 k0_t34 v228 v257 k0_hw21 k0_t37 => k0_hw21.2.2.1.2.2.2.2.2.2.2.2.2.2.2.2.2.2.2.2.2.2.1 k0_t37
theorem k0_off478_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off478 v1 k0_t34 v228 v257 k0_t37) a + S1x1x1x16x128.size a ≤ S2x2x108x128x128.size a := fun v1 k0_t34 v228 v257 k0_hw21 k0_t37 => k0_hw21.2.2.1.2.2.2.2.2.2.2.2.2.2.2.2.2.2.2.2.2.2.2.1 k0_t37
theorem k0_off478_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off478 v1 k0_t34 v228 v257 k0_t37) S1x1x1x16x128.size (k0_off478_inb v1 k0_t34 v228 v257 k0_hw21 k0_t37)).PackedRows (EltTy.packing .bf16) := fun v1 k0_t34 v228 v257 k0_hw21 k0_t37 => k0_hw21.2.2.1.2.2.2.2.2.2.2.2.2.2.2.2.2.2.2.2.2.2.2.2.1 k0_t37 (k0_off478_inb v1 k0_t34 v228 v257 k0_hw21 k0_t37)
theorem k0_off480_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off480 v1 k0_t34 v228 v257 k0_t37) a + S1x1x1x16x128.size a ≤ S2x2x108x128x128.size a := fun v1 k0_t34 v228 v257 k0_hw21 k0_t37 => k0_hw21.2.2.1.2.2.2.2.2.2.2.2.2.2.2.2.2.2.2.2.2.2.2.2.2.1 k0_t37
theorem k0_off480_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off480 v1 k0_t34 v228 v257 k0_t37) S1x1x1x16x128.size (k0_off480_inb v1 k0_t34 v228 v257 k0_hw21 k0_t37)).PackedRows (EltTy.packing .bf16) := fun v1 k0_t34 v228 v257 k0_hw21 k0_t37 => k0_hw21.2.2.1.2.2.2.2.2.2.2.2.2.2.2.2.2.2.2.2.2.2.2.2.2.2.1 k0_t37 (k0_off480_inb v1 k0_t34 v228 v257 k0_hw21 k0_t37)
theorem k0_off481_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off481 v1 k0_t34 v228 v257 k0_t37) a + S1x1x1x32x128.size a ≤ S2x2x8x1728x128.size a := fun v1 k0_t34 v228 v257 k0_hw21 k0_t37 => k0_hw21.2.2.1.2.2.2.2.2.2.2.2.2.2.2.2.2.2.2.2.2.2.2.2.2.2.2.1 k0_t37
theorem k0_off483_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off483 v1 k0_t34 v228 v257 k0_t37) a + S1x1x1x16x128.size a ≤ S2x2x108x128x128.size a := fun v1 k0_t34 v228 v257 k0_hw21 k0_t37 => k0_hw21.2.2.1.2.2.2.2.2.2.2.2.2.2.2.2.2.2.2.2.2.2.2.2.2.2.2.2.1 k0_t37
theorem k0_off483_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off483 v1 k0_t34 v228 v257 k0_t37) S1x1x1x16x128.size (k0_off483_inb v1 k0_t34 v228 v257 k0_hw21 k0_t37)).PackedRows (EltTy.packing .bf16) := fun v1 k0_t34 v228 v257 k0_hw21 k0_t37 => k0_hw21.2.2.1.2.2.2.2.2.2.2.2.2.2.2.2.2.2.2.2.2.2.2.2.2.2.2.2.2.1 k0_t37 (k0_off483_inb v1 k0_t34 v228 v257 k0_hw21 k0_t37)
theorem k0_off485_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off485 v1 k0_t34 v228 v257 k0_t37) a + S1x1x1x16x128.size a ≤ S2x2x108x128x128.size a := fun v1 k0_t34 v228 v257 k0_hw21 k0_t37 => k0_hw21.2.2.1.2.2.2.2.2.2.2.2.2.2.2.2.2.2.2.2.2.2.2.2.2.2.2.2.2.2.1 k0_t37
theorem k0_off485_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off485 v1 k0_t34 v228 v257 k0_t37) S1x1x1x16x128.size (k0_off485_inb v1 k0_t34 v228 v257 k0_hw21 k0_t37)).PackedRows (EltTy.packing .bf16) := fun v1 k0_t34 v228 v257 k0_hw21 k0_t37 => k0_hw21.2.2.1.2.2.2.2.2.2.2.2.2.2.2.2.2.2.2.2.2.2.2.2.2.2.2.2.2.2.2.1 k0_t37 (k0_off485_inb v1 k0_t34 v228 v257 k0_hw21 k0_t37)
theorem k0_off486_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off486 v1 k0_t34 v228 v257 k0_t37) a + S1x1x1x32x128.size a ≤ S2x2x8x1728x128.size a := fun v1 k0_t34 v228 v257 k0_hw21 k0_t37 => k0_hw21.2.2.1.2.2.2.2.2.2.2.2.2.2.2.2.2.2.2.2.2.2.2.2.2.2.2.2.2.2.2.2.1 k0_t37
theorem k0_off488_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off488 v1 k0_t34 v228 v257 k0_t37) a + S1x1x1x16x128.size a ≤ S2x2x108x128x128.size a := fun v1 k0_t34 v228 v257 k0_hw21 k0_t37 => k0_hw21.2.2.1.2.2.2.2.2.2.2.2.2.2.2.2.2.2.2.2.2.2.2.2.2.2.2.2.2.2.2.2.2.1 k0_t37
theorem k0_off488_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off488 v1 k0_t34 v228 v257 k0_t37) S1x1x1x16x128.size (k0_off488_inb v1 k0_t34 v228 v257 k0_hw21 k0_t37)).PackedRows (EltTy.packing .bf16) := fun v1 k0_t34 v228 v257 k0_hw21 k0_t37 => k0_hw21.2.2.1.2.2.2.2.2.2.2.2.2.2.2.2.2.2.2.2.2.2.2.2.2.2.2.2.2.2.2.2.2.2.1 k0_t37 (k0_off488_inb v1 k0_t34 v228 v257 k0_hw21 k0_t37)
theorem k0_off490_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off490 v1 k0_t34 v228 v257 k0_t37) a + S1x1x1x16x128.size a ≤ S2x2x108x128x128.size a := fun v1 k0_t34 v228 v257 k0_hw21 k0_t37 => k0_hw21.2.2.1.2.2.2.2.2.2.2.2.2.2.2.2.2.2.2.2.2.2.2.2.2.2.2.2.2.2.2.2.2.2.2 k0_t37
theorem k0_off490_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off490 v1 k0_t34 v228 v257 k0_t37) S1x1x1x16x128.size (k0_off490_inb v1 k0_t34 v228 v257 k0_hw21 k0_t37)).PackedRows (EltTy.packing .bf16) := fun v1 k0_t34 v228 v257 k0_hw21 k0_t37 => k0_hw21.2.2.2.1.1 k0_t37 (k0_off490_inb v1 k0_t34 v228 v257 k0_hw21 k0_t37)
theorem k0_off491_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off491 v1 k0_t34 v228 v257 k0_t37) a + S1x1x1x32x128.size a ≤ S2x2x8x1728x128.size a := fun v1 k0_t34 v228 v257 k0_hw21 k0_t37 => k0_hw21.2.2.2.1.2.1 k0_t37
theorem k0_off493_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off493 v1 k0_t34 v228 v257 k0_t37) a + S1x1x1x16x128.size a ≤ S2x2x108x128x128.size a := fun v1 k0_t34 v228 v257 k0_hw21 k0_t37 => k0_hw21.2.2.2.1.2.2.1 k0_t37
theorem k0_off493_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off493 v1 k0_t34 v228 v257 k0_t37) S1x1x1x16x128.size (k0_off493_inb v1 k0_t34 v228 v257 k0_hw21 k0_t37)).PackedRows (EltTy.packing .bf16) := fun v1 k0_t34 v228 v257 k0_hw21 k0_t37 => k0_hw21.2.2.2.1.2.2.2.1 k0_t37 (k0_off493_inb v1 k0_t34 v228 v257 k0_hw21 k0_t37)
theorem k0_off495_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off495 v1 k0_t34 v228 v257 k0_t37) a + S1x1x1x16x128.size a ≤ S2x2x108x128x128.size a := fun v1 k0_t34 v228 v257 k0_hw21 k0_t37 => k0_hw21.2.2.2.1.2.2.2.2.1 k0_t37
theorem k0_off495_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off495 v1 k0_t34 v228 v257 k0_t37) S1x1x1x16x128.size (k0_off495_inb v1 k0_t34 v228 v257 k0_hw21 k0_t37)).PackedRows (EltTy.packing .bf16) := fun v1 k0_t34 v228 v257 k0_hw21 k0_t37 => k0_hw21.2.2.2.1.2.2.2.2.2.1 k0_t37 (k0_off495_inb v1 k0_t34 v228 v257 k0_hw21 k0_t37)
theorem k0_off496_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off496 v1 k0_t34 v228 v257 k0_t37) a + S1x1x1x32x128.size a ≤ S2x2x8x1728x128.size a := fun v1 k0_t34 v228 v257 k0_hw21 k0_t37 => k0_hw21.2.2.2.1.2.2.2.2.2.2.1 k0_t37
theorem k0_off498_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off498 v1 k0_t34 v228 v257 k0_t37) a + S1x1x1x16x128.size a ≤ S2x2x108x128x128.size a := fun v1 k0_t34 v228 v257 k0_hw21 k0_t37 => k0_hw21.2.2.2.1.2.2.2.2.2.2.2.1 k0_t37
theorem k0_off498_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off498 v1 k0_t34 v228 v257 k0_t37) S1x1x1x16x128.size (k0_off498_inb v1 k0_t34 v228 v257 k0_hw21 k0_t37)).PackedRows (EltTy.packing .bf16) := fun v1 k0_t34 v228 v257 k0_hw21 k0_t37 => k0_hw21.2.2.2.1.2.2.2.2.2.2.2.2.1 k0_t37 (k0_off498_inb v1 k0_t34 v228 v257 k0_hw21 k0_t37)
theorem k0_off500_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off500 v1 k0_t34 v228 v257 k0_t37) a + S1x1x1x16x128.size a ≤ S2x2x108x128x128.size a := fun v1 k0_t34 v228 v257 k0_hw21 k0_t37 => k0_hw21.2.2.2.1.2.2.2.2.2.2.2.2.2.1 k0_t37
theorem k0_off500_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off500 v1 k0_t34 v228 v257 k0_t37) S1x1x1x16x128.size (k0_off500_inb v1 k0_t34 v228 v257 k0_hw21 k0_t37)).PackedRows (EltTy.packing .bf16) := fun v1 k0_t34 v228 v257 k0_hw21 k0_t37 => k0_hw21.2.2.2.1.2.2.2.2.2.2.2.2.2.2.1 k0_t37 (k0_off500_inb v1 k0_t34 v228 v257 k0_hw21 k0_t37)
theorem k0_off501_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off501 v1 k0_t34 v228 v257 k0_t37) a + S1x1x1x32x128.size a ≤ S2x2x8x1728x128.size a := fun v1 k0_t34 v228 v257 k0_hw21 k0_t37 => k0_hw21.2.2.2.1.2.2.2.2.2.2.2.2.2.2.2.1 k0_t37
theorem k0_off503_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off503 v1 k0_t34 v228 v257 k0_t37) a + S1x1x1x16x128.size a ≤ S2x2x108x128x128.size a := fun v1 k0_t34 v228 v257 k0_hw21 k0_t37 => k0_hw21.2.2.2.1.2.2.2.2.2.2.2.2.2.2.2.2.1 k0_t37
theorem k0_off503_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off503 v1 k0_t34 v228 v257 k0_t37) S1x1x1x16x128.size (k0_off503_inb v1 k0_t34 v228 v257 k0_hw21 k0_t37)).PackedRows (EltTy.packing .bf16) := fun v1 k0_t34 v228 v257 k0_hw21 k0_t37 => k0_hw21.2.2.2.1.2.2.2.2.2.2.2.2.2.2.2.2.2.1 k0_t37 (k0_off503_inb v1 k0_t34 v228 v257 k0_hw21 k0_t37)
theorem k0_off505_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off505 v1 k0_t34 v228 v257 k0_t37) a + S1x1x1x16x128.size a ≤ S2x2x108x128x128.size a := fun v1 k0_t34 v228 v257 k0_hw21 k0_t37 => k0_hw21.2.2.2.1.2.2.2.2.2.2.2.2.2.2.2.2.2.2.1 k0_t37
theorem k0_off505_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off505 v1 k0_t34 v228 v257 k0_t37) S1x1x1x16x128.size (k0_off505_inb v1 k0_t34 v228 v257 k0_hw21 k0_t37)).PackedRows (EltTy.packing .bf16) := fun v1 k0_t34 v228 v257 k0_hw21 k0_t37 => k0_hw21.2.2.2.1.2.2.2.2.2.2.2.2.2.2.2.2.2.2.2.1 k0_t37 (k0_off505_inb v1 k0_t34 v228 v257 k0_hw21 k0_t37)
theorem k0_off506_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off506 v1 k0_t34 v228 v257 k0_t37) a + S1x1x1x32x128.size a ≤ S2x2x8x1728x128.size a := fun v1 k0_t34 v228 v257 k0_hw21 k0_t37 => k0_hw21.2.2.2.1.2.2.2.2.2.2.2.2.2.2.2.2.2.2.2.2.1 k0_t37
theorem k0_off508_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off508 v1 k0_t34 v228 v257 k0_t37) a + S1x1x1x16x128.size a ≤ S2x2x108x128x128.size a := fun v1 k0_t34 v228 v257 k0_hw21 k0_t37 => k0_hw21.2.2.2.1.2.2.2.2.2.2.2.2.2.2.2.2.2.2.2.2.2.1 k0_t37
theorem k0_off508_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off508 v1 k0_t34 v228 v257 k0_t37) S1x1x1x16x128.size (k0_off508_inb v1 k0_t34 v228 v257 k0_hw21 k0_t37)).PackedRows (EltTy.packing .bf16) := fun v1 k0_t34 v228 v257 k0_hw21 k0_t37 => k0_hw21.2.2.2.1.2.2.2.2.2.2.2.2.2.2.2.2.2.2.2.2.2.2.1 k0_t37 (k0_off508_inb v1 k0_t34 v228 v257 k0_hw21 k0_t37)
theorem k0_off510_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off510 v1 k0_t34 v228 v257 k0_t37) a + S1x1x1x16x128.size a ≤ S2x2x108x128x128.size a := fun v1 k0_t34 v228 v257 k0_hw21 k0_t37 => k0_hw21.2.2.2.1.2.2.2.2.2.2.2.2.2.2.2.2.2.2.2.2.2.2.2.1 k0_t37
theorem k0_off510_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off510 v1 k0_t34 v228 v257 k0_t37) S1x1x1x16x128.size (k0_off510_inb v1 k0_t34 v228 v257 k0_hw21 k0_t37)).PackedRows (EltTy.packing .bf16) := fun v1 k0_t34 v228 v257 k0_hw21 k0_t37 => k0_hw21.2.2.2.1.2.2.2.2.2.2.2.2.2.2.2.2.2.2.2.2.2.2.2.2.1 k0_t37 (k0_off510_inb v1 k0_t34 v228 v257 k0_hw21 k0_t37)
theorem k0_off511_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off511 v1 k0_t34 v228 v257 k0_t37) a + S1x1x1x32x128.size a ≤ S2x2x8x1728x128.size a := fun v1 k0_t34 v228 v257 k0_hw21 k0_t37 => k0_hw21.2.2.2.1.2.2.2.2.2.2.2.2.2.2.2.2.2.2.2.2.2.2.2.2.2.1 k0_t37
theorem k0_off513_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off513 v1 k0_t34 v228 v257 k0_t37) a + S1x1x1x16x128.size a ≤ S2x2x108x128x128.size a := fun v1 k0_t34 v228 v257 k0_hw21 k0_t37 => k0_hw21.2.2.2.1.2.2.2.2.2.2.2.2.2.2.2.2.2.2.2.2.2.2.2.2.2.2.1 k0_t37
theorem k0_off513_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off513 v1 k0_t34 v228 v257 k0_t37) S1x1x1x16x128.size (k0_off513_inb v1 k0_t34 v228 v257 k0_hw21 k0_t37)).PackedRows (EltTy.packing .bf16) := fun v1 k0_t34 v228 v257 k0_hw21 k0_t37 => k0_hw21.2.2.2.1.2.2.2.2.2.2.2.2.2.2.2.2.2.2.2.2.2.2.2.2.2.2.2.1 k0_t37 (k0_off513_inb v1 k0_t34 v228 v257 k0_hw21 k0_t37)
theorem k0_off515_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off515 v1 k0_t34 v228 v257 k0_t37) a + S1x1x1x16x128.size a ≤ S2x2x108x128x128.size a := fun v1 k0_t34 v228 v257 k0_hw21 k0_t37 => k0_hw21.2.2.2.1.2.2.2.2.2.2.2.2.2.2.2.2.2.2.2.2.2.2.2.2.2.2.2.2.1 k0_t37
theorem k0_off515_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off515 v1 k0_t34 v228 v257 k0_t37) S1x1x1x16x128.size (k0_off515_inb v1 k0_t34 v228 v257 k0_hw21 k0_t37)).PackedRows (EltTy.packing .bf16) := fun v1 k0_t34 v228 v257 k0_hw21 k0_t37 => k0_hw21.2.2.2.1.2.2.2.2.2.2.2.2.2.2.2.2.2.2.2.2.2.2.2.2.2.2.2.2.2.1 k0_t37 (k0_off515_inb v1 k0_t34 v228 v257 k0_hw21 k0_t37)
theorem k0_off516_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off516 v1 k0_t34 v228 v257 k0_t37) a + S1x1x1x32x128.size a ≤ S2x2x8x1728x128.size a := fun v1 k0_t34 v228 v257 k0_hw21 k0_t37 => k0_hw21.2.2.2.1.2.2.2.2.2.2.2.2.2.2.2.2.2.2.2.2.2.2.2.2.2.2.2.2.2.2.1 k0_t37
theorem k0_off518_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off518 v1 k0_t34 v228 v257 k0_t37) a + S1x1x1x16x128.size a ≤ S2x2x108x128x128.size a := fun v1 k0_t34 v228 v257 k0_hw21 k0_t37 => k0_hw21.2.2.2.1.2.2.2.2.2.2.2.2.2.2.2.2.2.2.2.2.2.2.2.2.2.2.2.2.2.2.2.1 k0_t37
theorem k0_off518_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off518 v1 k0_t34 v228 v257 k0_t37) S1x1x1x16x128.size (k0_off518_inb v1 k0_t34 v228 v257 k0_hw21 k0_t37)).PackedRows (EltTy.packing .bf16) := fun v1 k0_t34 v228 v257 k0_hw21 k0_t37 => k0_hw21.2.2.2.1.2.2.2.2.2.2.2.2.2.2.2.2.2.2.2.2.2.2.2.2.2.2.2.2.2.2.2.2.1 k0_t37 (k0_off518_inb v1 k0_t34 v228 v257 k0_hw21 k0_t37)
theorem k0_off520_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off520 v1 k0_t34 v228 v257 k0_t37) a + S1x1x1x16x128.size a ≤ S2x2x108x128x128.size a := fun v1 k0_t34 v228 v257 k0_hw21 k0_t37 => k0_hw21.2.2.2.1.2.2.2.2.2.2.2.2.2.2.2.2.2.2.2.2.2.2.2.2.2.2.2.2.2.2.2.2.2.1 k0_t37
theorem k0_off520_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off520 v1 k0_t34 v228 v257 k0_t37) S1x1x1x16x128.size (k0_off520_inb v1 k0_t34 v228 v257 k0_hw21 k0_t37)).PackedRows (EltTy.packing .bf16) := fun v1 k0_t34 v228 v257 k0_hw21 k0_t37 => k0_hw21.2.2.2.1.2.2.2.2.2.2.2.2.2.2.2.2.2.2.2.2.2.2.2.2.2.2.2.2.2.2.2.2.2.2.1 k0_t37 (k0_off520_inb v1 k0_t34 v228 v257 k0_hw21 k0_t37)
theorem k0_off521_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off521 v1 k0_t34 v228 v257 k0_t37) a + S1x1x1x32x128.size a ≤ S2x2x8x1728x128.size a := fun v1 k0_t34 v228 v257 k0_hw21 k0_t37 => k0_hw21.2.2.2.1.2.2.2.2.2.2.2.2.2.2.2.2.2.2.2.2.2.2.2.2.2.2.2.2.2.2.2.2.2.2.2 k0_t37
theorem k0_off523_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off523 v1 k0_t34 v228 v257 k0_t37) a + S1x1x1x16x128.size a ≤ S2x2x108x128x128.size a := fun v1 k0_t34 v228 v257 k0_hw21 k0_t37 => k0_hw21.2.2.2.2.1.1 k0_t37
theorem k0_off523_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off523 v1 k0_t34 v228 v257 k0_t37) S1x1x1x16x128.size (k0_off523_inb v1 k0_t34 v228 v257 k0_hw21 k0_t37)).PackedRows (EltTy.packing .bf16) := fun v1 k0_t34 v228 v257 k0_hw21 k0_t37 => k0_hw21.2.2.2.2.1.2.1 k0_t37 (k0_off523_inb v1 k0_t34 v228 v257 k0_hw21 k0_t37)
theorem k0_off525_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off525 v1 k0_t34 v228 v257 k0_t37) a + S1x1x1x16x128.size a ≤ S2x2x108x128x128.size a := fun v1 k0_t34 v228 v257 k0_hw21 k0_t37 => k0_hw21.2.2.2.2.1.2.2.1 k0_t37
theorem k0_off525_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off525 v1 k0_t34 v228 v257 k0_t37) S1x1x1x16x128.size (k0_off525_inb v1 k0_t34 v228 v257 k0_hw21 k0_t37)).PackedRows (EltTy.packing .bf16) := fun v1 k0_t34 v228 v257 k0_hw21 k0_t37 => k0_hw21.2.2.2.2.1.2.2.2.1 k0_t37 (k0_off525_inb v1 k0_t34 v228 v257 k0_hw21 k0_t37)
theorem k0_off526_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off526 v1 k0_t34 v228 v257 k0_t37) a + S1x1x1x32x128.size a ≤ S2x2x8x1728x128.size a := fun v1 k0_t34 v228 v257 k0_hw21 k0_t37 => k0_hw21.2.2.2.2.1.2.2.2.2.1 k0_t37
theorem k0_off528_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off528 v1 k0_t34 v228 v257 k0_t37) a + S1x1x1x16x128.size a ≤ S2x2x108x128x128.size a := fun v1 k0_t34 v228 v257 k0_hw21 k0_t37 => k0_hw21.2.2.2.2.1.2.2.2.2.2.1 k0_t37
theorem k0_off528_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off528 v1 k0_t34 v228 v257 k0_t37) S1x1x1x16x128.size (k0_off528_inb v1 k0_t34 v228 v257 k0_hw21 k0_t37)).PackedRows (EltTy.packing .bf16) := fun v1 k0_t34 v228 v257 k0_hw21 k0_t37 => k0_hw21.2.2.2.2.1.2.2.2.2.2.2.1 k0_t37 (k0_off528_inb v1 k0_t34 v228 v257 k0_hw21 k0_t37)
theorem k0_off530_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off530 v1 k0_t34 v228 v257 k0_t37) a + S1x1x1x16x128.size a ≤ S2x2x108x128x128.size a := fun v1 k0_t34 v228 v257 k0_hw21 k0_t37 => k0_hw21.2.2.2.2.1.2.2.2.2.2.2.2.1 k0_t37
theorem k0_off530_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off530 v1 k0_t34 v228 v257 k0_t37) S1x1x1x16x128.size (k0_off530_inb v1 k0_t34 v228 v257 k0_hw21 k0_t37)).PackedRows (EltTy.packing .bf16) := fun v1 k0_t34 v228 v257 k0_hw21 k0_t37 => k0_hw21.2.2.2.2.1.2.2.2.2.2.2.2.2.1 k0_t37 (k0_off530_inb v1 k0_t34 v228 v257 k0_hw21 k0_t37)
theorem k0_off531_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off531 v1 k0_t34 v228 v257 k0_t37) a + S1x1x1x32x128.size a ≤ S2x2x8x1728x128.size a := fun v1 k0_t34 v228 v257 k0_hw21 k0_t37 => k0_hw21.2.2.2.2.1.2.2.2.2.2.2.2.2.2.1 k0_t37
theorem k0_off533_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off533 v1 k0_t34 v228 v257 k0_t37) a + S1x1x1x16x128.size a ≤ S2x2x108x128x128.size a := fun v1 k0_t34 v228 v257 k0_hw21 k0_t37 => k0_hw21.2.2.2.2.1.2.2.2.2.2.2.2.2.2.2.1 k0_t37
theorem k0_off533_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off533 v1 k0_t34 v228 v257 k0_t37) S1x1x1x16x128.size (k0_off533_inb v1 k0_t34 v228 v257 k0_hw21 k0_t37)).PackedRows (EltTy.packing .bf16) := fun v1 k0_t34 v228 v257 k0_hw21 k0_t37 => k0_hw21.2.2.2.2.1.2.2.2.2.2.2.2.2.2.2.2.1 k0_t37 (k0_off533_inb v1 k0_t34 v228 v257 k0_hw21 k0_t37)
theorem k0_off535_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off535 v1 k0_t34 v228 v257 k0_t37) a + S1x1x1x16x128.size a ≤ S2x2x108x128x128.size a := fun v1 k0_t34 v228 v257 k0_hw21 k0_t37 => k0_hw21.2.2.2.2.1.2.2.2.2.2.2.2.2.2.2.2.2.1 k0_t37
theorem k0_off535_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off535 v1 k0_t34 v228 v257 k0_t37) S1x1x1x16x128.size (k0_off535_inb v1 k0_t34 v228 v257 k0_hw21 k0_t37)).PackedRows (EltTy.packing .bf16) := fun v1 k0_t34 v228 v257 k0_hw21 k0_t37 => k0_hw21.2.2.2.2.1.2.2.2.2.2.2.2.2.2.2.2.2.2.1 k0_t37 (k0_off535_inb v1 k0_t34 v228 v257 k0_hw21 k0_t37)
theorem k0_off536_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off536 v1 k0_t34 v228 v257 k0_t37) a + S1x1x1x32x128.size a ≤ S2x2x8x1728x128.size a := fun v1 k0_t34 v228 v257 k0_hw21 k0_t37 => k0_hw21.2.2.2.2.1.2.2.2.2.2.2.2.2.2.2.2.2.2.2.1 k0_t37
theorem k0_off538_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off538 v1 k0_t34 v228 v257 k0_t37) a + S1x1x1x16x128.size a ≤ S2x2x108x128x128.size a := fun v1 k0_t34 v228 v257 k0_hw21 k0_t37 => k0_hw21.2.2.2.2.1.2.2.2.2.2.2.2.2.2.2.2.2.2.2.2.1 k0_t37
theorem k0_off538_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off538 v1 k0_t34 v228 v257 k0_t37) S1x1x1x16x128.size (k0_off538_inb v1 k0_t34 v228 v257 k0_hw21 k0_t37)).PackedRows (EltTy.packing .bf16) := fun v1 k0_t34 v228 v257 k0_hw21 k0_t37 => k0_hw21.2.2.2.2.1.2.2.2.2.2.2.2.2.2.2.2.2.2.2.2.2.1 k0_t37 (k0_off538_inb v1 k0_t34 v228 v257 k0_hw21 k0_t37)
theorem k0_off540_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off540 v1 k0_t34 v228 v257 k0_t37) a + S1x1x1x16x128.size a ≤ S2x2x108x128x128.size a := fun v1 k0_t34 v228 v257 k0_hw21 k0_t37 => k0_hw21.2.2.2.2.1.2.2.2.2.2.2.2.2.2.2.2.2.2.2.2.2.2.1 k0_t37
theorem k0_off540_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off540 v1 k0_t34 v228 v257 k0_t37) S1x1x1x16x128.size (k0_off540_inb v1 k0_t34 v228 v257 k0_hw21 k0_t37)).PackedRows (EltTy.packing .bf16) := fun v1 k0_t34 v228 v257 k0_hw21 k0_t37 => k0_hw21.2.2.2.2.1.2.2.2.2.2.2.2.2.2.2.2.2.2.2.2.2.2.2.1 k0_t37 (k0_off540_inb v1 k0_t34 v228 v257 k0_hw21 k0_t37)
theorem k0_off541_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off541 v1 k0_t34 v228 v257 k0_t37) a + S1x1x1x32x128.size a ≤ S2x2x8x1728x128.size a := fun v1 k0_t34 v228 v257 k0_hw21 k0_t37 => k0_hw21.2.2.2.2.1.2.2.2.2.2.2.2.2.2.2.2.2.2.2.2.2.2.2.2.1 k0_t37
theorem k0_off543_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off543 v1 k0_t34 v228 v257 k0_t37) a + S1x1x1x16x128.size a ≤ S2x2x108x128x128.size a := fun v1 k0_t34 v228 v257 k0_hw21 k0_t37 => k0_hw21.2.2.2.2.1.2.2.2.2.2.2.2.2.2.2.2.2.2.2.2.2.2.2.2.2.1 k0_t37
theorem k0_off543_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off543 v1 k0_t34 v228 v257 k0_t37) S1x1x1x16x128.size (k0_off543_inb v1 k0_t34 v228 v257 k0_hw21 k0_t37)).PackedRows (EltTy.packing .bf16) := fun v1 k0_t34 v228 v257 k0_hw21 k0_t37 => k0_hw21.2.2.2.2.1.2.2.2.2.2.2.2.2.2.2.2.2.2.2.2.2.2.2.2.2.2.1 k0_t37 (k0_off543_inb v1 k0_t34 v228 v257 k0_hw21 k0_t37)
theorem k0_off545_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off545 v1 k0_t34 v228 v257 k0_t37) a + S1x1x1x16x128.size a ≤ S2x2x108x128x128.size a := fun v1 k0_t34 v228 v257 k0_hw21 k0_t37 => k0_hw21.2.2.2.2.1.2.2.2.2.2.2.2.2.2.2.2.2.2.2.2.2.2.2.2.2.2.2.1 k0_t37
theorem k0_off545_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off545 v1 k0_t34 v228 v257 k0_t37) S1x1x1x16x128.size (k0_off545_inb v1 k0_t34 v228 v257 k0_hw21 k0_t37)).PackedRows (EltTy.packing .bf16) := fun v1 k0_t34 v228 v257 k0_hw21 k0_t37 => k0_hw21.2.2.2.2.1.2.2.2.2.2.2.2.2.2.2.2.2.2.2.2.2.2.2.2.2.2.2.2.1 k0_t37 (k0_off545_inb v1 k0_t34 v228 v257 k0_hw21 k0_t37)
theorem k0_off546_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off546 v1 k0_t34 v228 v257 k0_t37) a + S1x1x1x32x128.size a ≤ S2x2x8x1728x128.size a := fun v1 k0_t34 v228 v257 k0_hw21 k0_t37 => k0_hw21.2.2.2.2.1.2.2.2.2.2.2.2.2.2.2.2.2.2.2.2.2.2.2.2.2.2.2.2.2.1 k0_t37
theorem k0_off548_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off548 v1 k0_t34 v228 v257 k0_t37) a + S1x1x1x16x128.size a ≤ S2x2x108x128x128.size a := fun v1 k0_t34 v228 v257 k0_hw21 k0_t37 => k0_hw21.2.2.2.2.1.2.2.2.2.2.2.2.2.2.2.2.2.2.2.2.2.2.2.2.2.2.2.2.2.2.1 k0_t37
theorem k0_off548_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off548 v1 k0_t34 v228 v257 k0_t37) S1x1x1x16x128.size (k0_off548_inb v1 k0_t34 v228 v257 k0_hw21 k0_t37)).PackedRows (EltTy.packing .bf16) := fun v1 k0_t34 v228 v257 k0_hw21 k0_t37 => k0_hw21.2.2.2.2.1.2.2.2.2.2.2.2.2.2.2.2.2.2.2.2.2.2.2.2.2.2.2.2.2.2.2.1 k0_t37 (k0_off548_inb v1 k0_t34 v228 v257 k0_hw21 k0_t37)
theorem k0_off550_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off550 v1 k0_t34 v228 v257 k0_t37) a + S1x1x1x16x128.size a ≤ S2x2x108x128x128.size a := fun v1 k0_t34 v228 v257 k0_hw21 k0_t37 => k0_hw21.2.2.2.2.1.2.2.2.2.2.2.2.2.2.2.2.2.2.2.2.2.2.2.2.2.2.2.2.2.2.2.2.1 k0_t37
theorem k0_off550_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off550 v1 k0_t34 v228 v257 k0_t37) S1x1x1x16x128.size (k0_off550_inb v1 k0_t34 v228 v257 k0_hw21 k0_t37)).PackedRows (EltTy.packing .bf16) := fun v1 k0_t34 v228 v257 k0_hw21 k0_t37 => k0_hw21.2.2.2.2.1.2.2.2.2.2.2.2.2.2.2.2.2.2.2.2.2.2.2.2.2.2.2.2.2.2.2.2.2.1 k0_t37 (k0_off550_inb v1 k0_t34 v228 v257 k0_hw21 k0_t37)
theorem k0_off551_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off551 v1 k0_t34 v228 v257 k0_t37) a + S1x1x1x32x128.size a ≤ S2x2x8x1728x128.size a := fun v1 k0_t34 v228 v257 k0_hw21 k0_t37 => k0_hw21.2.2.2.2.1.2.2.2.2.2.2.2.2.2.2.2.2.2.2.2.2.2.2.2.2.2.2.2.2.2.2.2.2.2.1 k0_t37
theorem k0_off553_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off553 v1 k0_t34 v228 v257 k0_t37) a + S1x1x1x16x128.size a ≤ S2x2x108x128x128.size a := fun v1 k0_t34 v228 v257 k0_hw21 k0_t37 => k0_hw21.2.2.2.2.1.2.2.2.2.2.2.2.2.2.2.2.2.2.2.2.2.2.2.2.2.2.2.2.2.2.2.2.2.2.2.1 k0_t37
theorem k0_off553_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off553 v1 k0_t34 v228 v257 k0_t37) S1x1x1x16x128.size (k0_off553_inb v1 k0_t34 v228 v257 k0_hw21 k0_t37)).PackedRows (EltTy.packing .bf16) := fun v1 k0_t34 v228 v257 k0_hw21 k0_t37 => k0_hw21.2.2.2.2.1.2.2.2.2.2.2.2.2.2.2.2.2.2.2.2.2.2.2.2.2.2.2.2.2.2.2.2.2.2.2.2 k0_t37 (k0_off553_inb v1 k0_t34 v228 v257 k0_hw21 k0_t37)
theorem k0_off555_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off555 v1 k0_t34 v228 v257 k0_t37) a + S1x1x1x16x128.size a ≤ S2x2x108x128x128.size a := fun v1 k0_t34 v228 v257 k0_hw21 k0_t37 => k0_hw21.2.2.2.2.2.1.1 k0_t37
theorem k0_off555_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off555 v1 k0_t34 v228 v257 k0_t37) S1x1x1x16x128.size (k0_off555_inb v1 k0_t34 v228 v257 k0_hw21 k0_t37)).PackedRows (EltTy.packing .bf16) := fun v1 k0_t34 v228 v257 k0_hw21 k0_t37 => k0_hw21.2.2.2.2.2.1.2.1 k0_t37 (k0_off555_inb v1 k0_t34 v228 v257 k0_hw21 k0_t37)
theorem k0_off556_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off556 v1 k0_t34 v228 v257 k0_t37) a + S1x1x1x32x128.size a ≤ S2x2x8x1728x128.size a := fun v1 k0_t34 v228 v257 k0_hw21 k0_t37 => k0_hw21.2.2.2.2.2.1.2.2.1 k0_t37
theorem k0_off558_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off558 v1 k0_t34 v228 v257 k0_t37) a + S1x1x1x16x128.size a ≤ S2x2x108x128x128.size a := fun v1 k0_t34 v228 v257 k0_hw21 k0_t37 => k0_hw21.2.2.2.2.2.1.2.2.2.1 k0_t37
theorem k0_off558_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off558 v1 k0_t34 v228 v257 k0_t37) S1x1x1x16x128.size (k0_off558_inb v1 k0_t34 v228 v257 k0_hw21 k0_t37)).PackedRows (EltTy.packing .bf16) := fun v1 k0_t34 v228 v257 k0_hw21 k0_t37 => k0_hw21.2.2.2.2.2.1.2.2.2.2.1 k0_t37 (k0_off558_inb v1 k0_t34 v228 v257 k0_hw21 k0_t37)
theorem k0_off560_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off560 v1 k0_t34 v228 v257 k0_t37) a + S1x1x1x16x128.size a ≤ S2x2x108x128x128.size a := fun v1 k0_t34 v228 v257 k0_hw21 k0_t37 => k0_hw21.2.2.2.2.2.1.2.2.2.2.2.1 k0_t37
theorem k0_off560_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off560 v1 k0_t34 v228 v257 k0_t37) S1x1x1x16x128.size (k0_off560_inb v1 k0_t34 v228 v257 k0_hw21 k0_t37)).PackedRows (EltTy.packing .bf16) := fun v1 k0_t34 v228 v257 k0_hw21 k0_t37 => k0_hw21.2.2.2.2.2.1.2.2.2.2.2.2.1 k0_t37 (k0_off560_inb v1 k0_t34 v228 v257 k0_hw21 k0_t37)
theorem k0_off561_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off561 v1 k0_t34 v228 v257 k0_t37) a + S1x1x1x32x128.size a ≤ S2x2x8x1728x128.size a := fun v1 k0_t34 v228 v257 k0_hw21 k0_t37 => k0_hw21.2.2.2.2.2.1.2.2.2.2.2.2.2.1 k0_t37
theorem k0_off563_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off563 v1 k0_t34 v228 v257 k0_t37) a + S1x1x1x16x128.size a ≤ S2x2x108x128x128.size a := fun v1 k0_t34 v228 v257 k0_hw21 k0_t37 => k0_hw21.2.2.2.2.2.1.2.2.2.2.2.2.2.2.1 k0_t37
theorem k0_off563_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off563 v1 k0_t34 v228 v257 k0_t37) S1x1x1x16x128.size (k0_off563_inb v1 k0_t34 v228 v257 k0_hw21 k0_t37)).PackedRows (EltTy.packing .bf16) := fun v1 k0_t34 v228 v257 k0_hw21 k0_t37 => k0_hw21.2.2.2.2.2.1.2.2.2.2.2.2.2.2.2.1 k0_t37 (k0_off563_inb v1 k0_t34 v228 v257 k0_hw21 k0_t37)
theorem k0_off565_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off565 v1 k0_t34 v228 v257 k0_t37) a + S1x1x1x16x128.size a ≤ S2x2x108x128x128.size a := fun v1 k0_t34 v228 v257 k0_hw21 k0_t37 => k0_hw21.2.2.2.2.2.1.2.2.2.2.2.2.2.2.2.2.1 k0_t37
theorem k0_off565_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off565 v1 k0_t34 v228 v257 k0_t37) S1x1x1x16x128.size (k0_off565_inb v1 k0_t34 v228 v257 k0_hw21 k0_t37)).PackedRows (EltTy.packing .bf16) := fun v1 k0_t34 v228 v257 k0_hw21 k0_t37 => k0_hw21.2.2.2.2.2.1.2.2.2.2.2.2.2.2.2.2.2.1 k0_t37 (k0_off565_inb v1 k0_t34 v228 v257 k0_hw21 k0_t37)
theorem k0_off566_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off566 v1 k0_t34 v228 v257 k0_t37) a + S1x1x1x32x128.size a ≤ S2x2x8x1728x128.size a := fun v1 k0_t34 v228 v257 k0_hw21 k0_t37 => k0_hw21.2.2.2.2.2.1.2.2.2.2.2.2.2.2.2.2.2.2.1 k0_t37
theorem k0_off568_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off568 v1 k0_t34 v228 v257 k0_t37) a + S1x1x1x16x128.size a ≤ S2x2x108x128x128.size a := fun v1 k0_t34 v228 v257 k0_hw21 k0_t37 => k0_hw21.2.2.2.2.2.1.2.2.2.2.2.2.2.2.2.2.2.2.2.1 k0_t37
theorem k0_off568_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off568 v1 k0_t34 v228 v257 k0_t37) S1x1x1x16x128.size (k0_off568_inb v1 k0_t34 v228 v257 k0_hw21 k0_t37)).PackedRows (EltTy.packing .bf16) := fun v1 k0_t34 v228 v257 k0_hw21 k0_t37 => k0_hw21.2.2.2.2.2.1.2.2.2.2.2.2.2.2.2.2.2.2.2.2.1 k0_t37 (k0_off568_inb v1 k0_t34 v228 v257 k0_hw21 k0_t37)
theorem k0_off570_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off570 v1 k0_t34 v228 v257 k0_t37) a + S1x1x1x16x128.size a ≤ S2x2x108x128x128.size a := fun v1 k0_t34 v228 v257 k0_hw21 k0_t37 => k0_hw21.2.2.2.2.2.1.2.2.2.2.2.2.2.2.2.2.2.2.2.2.2.1 k0_t37
theorem k0_off570_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off570 v1 k0_t34 v228 v257 k0_t37) S1x1x1x16x128.size (k0_off570_inb v1 k0_t34 v228 v257 k0_hw21 k0_t37)).PackedRows (EltTy.packing .bf16) := fun v1 k0_t34 v228 v257 k0_hw21 k0_t37 => k0_hw21.2.2.2.2.2.1.2.2.2.2.2.2.2.2.2.2.2.2.2.2.2.2.1 k0_t37 (k0_off570_inb v1 k0_t34 v228 v257 k0_hw21 k0_t37)
theorem k0_off571_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off571 v1 k0_t34 v228 v257 k0_t37) a + S1x1x1x32x128.size a ≤ S2x2x8x1728x128.size a := fun v1 k0_t34 v228 v257 k0_hw21 k0_t37 => k0_hw21.2.2.2.2.2.1.2.2.2.2.2.2.2.2.2.2.2.2.2.2.2.2.2.1 k0_t37
theorem k0_off573_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off573 v1 k0_t34 v228 v257 k0_t37) a + S1x1x1x16x128.size a ≤ S2x2x108x128x128.size a := fun v1 k0_t34 v228 v257 k0_hw21 k0_t37 => k0_hw21.2.2.2.2.2.1.2.2.2.2.2.2.2.2.2.2.2.2.2.2.2.2.2.2.1 k0_t37
theorem k0_off573_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off573 v1 k0_t34 v228 v257 k0_t37) S1x1x1x16x128.size (k0_off573_inb v1 k0_t34 v228 v257 k0_hw21 k0_t37)).PackedRows (EltTy.packing .bf16) := fun v1 k0_t34 v228 v257 k0_hw21 k0_t37 => k0_hw21.2.2.2.2.2.1.2.2.2.2.2.2.2.2.2.2.2.2.2.2.2.2.2.2.2.1 k0_t37 (k0_off573_inb v1 k0_t34 v228 v257 k0_hw21 k0_t37)
theorem k0_off575_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off575 v1 k0_t34 v228 v257 k0_t37) a + S1x1x1x16x128.size a ≤ S2x2x108x128x128.size a := fun v1 k0_t34 v228 v257 k0_hw21 k0_t37 => k0_hw21.2.2.2.2.2.1.2.2.2.2.2.2.2.2.2.2.2.2.2.2.2.2.2.2.2.2.1 k0_t37
theorem k0_off575_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off575 v1 k0_t34 v228 v257 k0_t37) S1x1x1x16x128.size (k0_off575_inb v1 k0_t34 v228 v257 k0_hw21 k0_t37)).PackedRows (EltTy.packing .bf16) := fun v1 k0_t34 v228 v257 k0_hw21 k0_t37 => k0_hw21.2.2.2.2.2.1.2.2.2.2.2.2.2.2.2.2.2.2.2.2.2.2.2.2.2.2.2.1 k0_t37 (k0_off575_inb v1 k0_t34 v228 v257 k0_hw21 k0_t37)
theorem k0_off576_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off576 v1 k0_t34 v228 v257 k0_t37) a + S1x1x1x32x128.size a ≤ S2x2x8x1728x128.size a := fun v1 k0_t34 v228 v257 k0_hw21 k0_t37 => k0_hw21.2.2.2.2.2.1.2.2.2.2.2.2.2.2.2.2.2.2.2.2.2.2.2.2.2.2.2.2.1 k0_t37
theorem k0_off578_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off578 v1 k0_t34 v228 v257 k0_t37) a + S1x1x1x16x128.size a ≤ S2x2x108x128x128.size a := fun v1 k0_t34 v228 v257 k0_hw21 k0_t37 => k0_hw21.2.2.2.2.2.1.2.2.2.2.2.2.2.2.2.2.2.2.2.2.2.2.2.2.2.2.2.2.2.1 k0_t37
theorem k0_off578_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off578 v1 k0_t34 v228 v257 k0_t37) S1x1x1x16x128.size (k0_off578_inb v1 k0_t34 v228 v257 k0_hw21 k0_t37)).PackedRows (EltTy.packing .bf16) := fun v1 k0_t34 v228 v257 k0_hw21 k0_t37 => k0_hw21.2.2.2.2.2.1.2.2.2.2.2.2.2.2.2.2.2.2.2.2.2.2.2.2.2.2.2.2.2.2.1 k0_t37 (k0_off578_inb v1 k0_t34 v228 v257 k0_hw21 k0_t37)
theorem k0_off580_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off580 v1 k0_t34 v228 v257 k0_t37) a + S1x1x1x16x128.size a ≤ S2x2x108x128x128.size a := fun v1 k0_t34 v228 v257 k0_hw21 k0_t37 => k0_hw21.2.2.2.2.2.1.2.2.2.2.2.2.2.2.2.2.2.2.2.2.2.2.2.2.2.2.2.2.2.2.2.1 k0_t37
theorem k0_off580_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off580 v1 k0_t34 v228 v257 k0_t37) S1x1x1x16x128.size (k0_off580_inb v1 k0_t34 v228 v257 k0_hw21 k0_t37)).PackedRows (EltTy.packing .bf16) := fun v1 k0_t34 v228 v257 k0_hw21 k0_t37 => k0_hw21.2.2.2.2.2.1.2.2.2.2.2.2.2.2.2.2.2.2.2.2.2.2.2.2.2.2.2.2.2.2.2.2.1 k0_t37 (k0_off580_inb v1 k0_t34 v228 v257 k0_hw21 k0_t37)
theorem k0_off581_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off581 v1 k0_t34 v228 v257 k0_t37) a + S1x1x1x32x128.size a ≤ S2x2x8x1728x128.size a := fun v1 k0_t34 v228 v257 k0_hw21 k0_t37 => k0_hw21.2.2.2.2.2.1.2.2.2.2.2.2.2.2.2.2.2.2.2.2.2.2.2.2.2.2.2.2.2.2.2.2.2.1 k0_t37
theorem k0_off583_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off583 v1 k0_t34 v228 v257 k0_t37) a + S1x1x1x16x128.size a ≤ S2x2x108x128x128.size a := fun v1 k0_t34 v228 v257 k0_hw21 k0_t37 => k0_hw21.2.2.2.2.2.1.2.2.2.2.2.2.2.2.2.2.2.2.2.2.2.2.2.2.2.2.2.2.2.2.2.2.2.2.1 k0_t37
theorem k0_off583_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off583 v1 k0_t34 v228 v257 k0_t37) S1x1x1x16x128.size (k0_off583_inb v1 k0_t34 v228 v257 k0_hw21 k0_t37)).PackedRows (EltTy.packing .bf16) := fun v1 k0_t34 v228 v257 k0_hw21 k0_t37 => k0_hw21.2.2.2.2.2.1.2.2.2.2.2.2.2.2.2.2.2.2.2.2.2.2.2.2.2.2.2.2.2.2.2.2.2.2.2.1 k0_t37 (k0_off583_inb v1 k0_t34 v228 v257 k0_hw21 k0_t37)
theorem k0_off585_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off585 v1 k0_t34 v228 v257 k0_t37) a + S1x1x1x16x128.size a ≤ S2x2x108x128x128.size a := fun v1 k0_t34 v228 v257 k0_hw21 k0_t37 => k0_hw21.2.2.2.2.2.1.2.2.2.2.2.2.2.2.2.2.2.2.2.2.2.2.2.2.2.2.2.2.2.2.2.2.2.2.2.2.1 k0_t37
theorem k0_off585_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off585 v1 k0_t34 v228 v257 k0_t37) S1x1x1x16x128.size (k0_off585_inb v1 k0_t34 v228 v257 k0_hw21 k0_t37)).PackedRows (EltTy.packing .bf16) := fun v1 k0_t34 v228 v257 k0_hw21 k0_t37 => k0_hw21.2.2.2.2.2.1.2.2.2.2.2.2.2.2.2.2.2.2.2.2.2.2.2.2.2.2.2.2.2.2.2.2.2.2.2.2.2 k0_t37 (k0_off585_inb v1 k0_t34 v228 v257 k0_hw21 k0_t37)
theorem k0_off586_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off586 v1 k0_t34 v228 v257 k0_t37) a + S1x1x1x32x128.size a ≤ S2x2x8x1728x128.size a := fun v1 k0_t34 v228 v257 k0_hw21 k0_t37 => k0_hw21.2.2.2.2.2.2.1.1 k0_t37
theorem k0_off588_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off588 v1 k0_t34 v228 v257 k0_t37) a + S1x1x1x16x128.size a ≤ S2x2x108x128x128.size a := fun v1 k0_t34 v228 v257 k0_hw21 k0_t37 => k0_hw21.2.2.2.2.2.2.1.2.1 k0_t37
theorem k0_off588_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off588 v1 k0_t34 v228 v257 k0_t37) S1x1x1x16x128.size (k0_off588_inb v1 k0_t34 v228 v257 k0_hw21 k0_t37)).PackedRows (EltTy.packing .bf16) := fun v1 k0_t34 v228 v257 k0_hw21 k0_t37 => k0_hw21.2.2.2.2.2.2.1.2.2.1 k0_t37 (k0_off588_inb v1 k0_t34 v228 v257 k0_hw21 k0_t37)
theorem k0_off590_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off590 v1 k0_t34 v228 v257 k0_t37) a + S1x1x1x16x128.size a ≤ S2x2x108x128x128.size a := fun v1 k0_t34 v228 v257 k0_hw21 k0_t37 => k0_hw21.2.2.2.2.2.2.1.2.2.2.1 k0_t37
theorem k0_off590_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off590 v1 k0_t34 v228 v257 k0_t37) S1x1x1x16x128.size (k0_off590_inb v1 k0_t34 v228 v257 k0_hw21 k0_t37)).PackedRows (EltTy.packing .bf16) := fun v1 k0_t34 v228 v257 k0_hw21 k0_t37 => k0_hw21.2.2.2.2.2.2.1.2.2.2.2.1 k0_t37 (k0_off590_inb v1 k0_t34 v228 v257 k0_hw21 k0_t37)
theorem k0_off591_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off591 v1 k0_t34 v228 v257 k0_t37) a + S1x1x1x32x128.size a ≤ S2x2x8x1728x128.size a := fun v1 k0_t34 v228 v257 k0_hw21 k0_t37 => k0_hw21.2.2.2.2.2.2.1.2.2.2.2.2.1 k0_t37
theorem k0_off593_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off593 v1 k0_t34 v228 v257 k0_t37) a + S1x1x1x16x128.size a ≤ S2x2x108x128x128.size a := fun v1 k0_t34 v228 v257 k0_hw21 k0_t37 => k0_hw21.2.2.2.2.2.2.1.2.2.2.2.2.2.1 k0_t37
theorem k0_off593_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off593 v1 k0_t34 v228 v257 k0_t37) S1x1x1x16x128.size (k0_off593_inb v1 k0_t34 v228 v257 k0_hw21 k0_t37)).PackedRows (EltTy.packing .bf16) := fun v1 k0_t34 v228 v257 k0_hw21 k0_t37 => k0_hw21.2.2.2.2.2.2.1.2.2.2.2.2.2.2.1 k0_t37 (k0_off593_inb v1 k0_t34 v228 v257 k0_hw21 k0_t37)
theorem k0_off595_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off595 v1 k0_t34 v228 v257 k0_t37) a + S1x1x1x16x128.size a ≤ S2x2x108x128x128.size a := fun v1 k0_t34 v228 v257 k0_hw21 k0_t37 => k0_hw21.2.2.2.2.2.2.1.2.2.2.2.2.2.2.2.1 k0_t37
theorem k0_off595_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off595 v1 k0_t34 v228 v257 k0_t37) S1x1x1x16x128.size (k0_off595_inb v1 k0_t34 v228 v257 k0_hw21 k0_t37)).PackedRows (EltTy.packing .bf16) := fun v1 k0_t34 v228 v257 k0_hw21 k0_t37 => k0_hw21.2.2.2.2.2.2.1.2.2.2.2.2.2.2.2.2.1 k0_t37 (k0_off595_inb v1 k0_t34 v228 v257 k0_hw21 k0_t37)
theorem k0_off596_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off596 v1 k0_t34 v228 v257 k0_t37) a + S1x1x1x32x128.size a ≤ S2x2x8x1728x128.size a := fun v1 k0_t34 v228 v257 k0_hw21 k0_t37 => k0_hw21.2.2.2.2.2.2.1.2.2.2.2.2.2.2.2.2.2.1 k0_t37
theorem k0_off598_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off598 v1 k0_t34 v228 v257 k0_t37) a + S1x1x1x16x128.size a ≤ S2x2x108x128x128.size a := fun v1 k0_t34 v228 v257 k0_hw21 k0_t37 => k0_hw21.2.2.2.2.2.2.1.2.2.2.2.2.2.2.2.2.2.2.1 k0_t37
theorem k0_off598_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off598 v1 k0_t34 v228 v257 k0_t37) S1x1x1x16x128.size (k0_off598_inb v1 k0_t34 v228 v257 k0_hw21 k0_t37)).PackedRows (EltTy.packing .bf16) := fun v1 k0_t34 v228 v257 k0_hw21 k0_t37 => k0_hw21.2.2.2.2.2.2.1.2.2.2.2.2.2.2.2.2.2.2.2.1 k0_t37 (k0_off598_inb v1 k0_t34 v228 v257 k0_hw21 k0_t37)
theorem k0_off600_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off600 v1 k0_t34 v228 v257 k0_t37) a + S1x1x1x16x128.size a ≤ S2x2x108x128x128.size a := fun v1 k0_t34 v228 v257 k0_hw21 k0_t37 => k0_hw21.2.2.2.2.2.2.1.2.2.2.2.2.2.2.2.2.2.2.2.2.1 k0_t37
theorem k0_off600_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off600 v1 k0_t34 v228 v257 k0_t37) S1x1x1x16x128.size (k0_off600_inb v1 k0_t34 v228 v257 k0_hw21 k0_t37)).PackedRows (EltTy.packing .bf16) := fun v1 k0_t34 v228 v257 k0_hw21 k0_t37 => k0_hw21.2.2.2.2.2.2.1.2.2.2.2.2.2.2.2.2.2.2.2.2.2.1 k0_t37 (k0_off600_inb v1 k0_t34 v228 v257 k0_hw21 k0_t37)
theorem k0_off601_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off601 v1 k0_t34 v228 v257 k0_t37) a + S1x1x1x32x128.size a ≤ S2x2x8x1728x128.size a := fun v1 k0_t34 v228 v257 k0_hw21 k0_t37 => k0_hw21.2.2.2.2.2.2.1.2.2.2.2.2.2.2.2.2.2.2.2.2.2.2.1 k0_t37
theorem k0_off603_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off603 v1 k0_t34 v228 v257 k0_t37) a + S1x1x1x16x128.size a ≤ S2x2x108x128x128.size a := fun v1 k0_t34 v228 v257 k0_hw21 k0_t37 => k0_hw21.2.2.2.2.2.2.1.2.2.2.2.2.2.2.2.2.2.2.2.2.2.2.2.1 k0_t37
theorem k0_off603_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off603 v1 k0_t34 v228 v257 k0_t37) S1x1x1x16x128.size (k0_off603_inb v1 k0_t34 v228 v257 k0_hw21 k0_t37)).PackedRows (EltTy.packing .bf16) := fun v1 k0_t34 v228 v257 k0_hw21 k0_t37 => k0_hw21.2.2.2.2.2.2.1.2.2.2.2.2.2.2.2.2.2.2.2.2.2.2.2.2.1 k0_t37 (k0_off603_inb v1 k0_t34 v228 v257 k0_hw21 k0_t37)
theorem k0_off605_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off605 v1 k0_t34 v228 v257 k0_t37) a + S1x1x1x16x128.size a ≤ S2x2x108x128x128.size a := fun v1 k0_t34 v228 v257 k0_hw21 k0_t37 => k0_hw21.2.2.2.2.2.2.1.2.2.2.2.2.2.2.2.2.2.2.2.2.2.2.2.2.2.1 k0_t37
theorem k0_off605_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off605 v1 k0_t34 v228 v257 k0_t37) S1x1x1x16x128.size (k0_off605_inb v1 k0_t34 v228 v257 k0_hw21 k0_t37)).PackedRows (EltTy.packing .bf16) := fun v1 k0_t34 v228 v257 k0_hw21 k0_t37 => k0_hw21.2.2.2.2.2.2.1.2.2.2.2.2.2.2.2.2.2.2.2.2.2.2.2.2.2.2.1 k0_t37 (k0_off605_inb v1 k0_t34 v228 v257 k0_hw21 k0_t37)
theorem k0_off606_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off606 v1 k0_t34 v228 v257 k0_t37) a + S1x1x1x32x128.size a ≤ S2x2x8x1728x128.size a := fun v1 k0_t34 v228 v257 k0_hw21 k0_t37 => k0_hw21.2.2.2.2.2.2.1.2.2.2.2.2.2.2.2.2.2.2.2.2.2.2.2.2.2.2.2.1 k0_t37
theorem k0_off608_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off608 v1 k0_t34 v228 v257 k0_t37) a + S1x1x1x16x128.size a ≤ S2x2x108x128x128.size a := fun v1 k0_t34 v228 v257 k0_hw21 k0_t37 => k0_hw21.2.2.2.2.2.2.1.2.2.2.2.2.2.2.2.2.2.2.2.2.2.2.2.2.2.2.2.2.1 k0_t37
theorem k0_off608_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off608 v1 k0_t34 v228 v257 k0_t37) S1x1x1x16x128.size (k0_off608_inb v1 k0_t34 v228 v257 k0_hw21 k0_t37)).PackedRows (EltTy.packing .bf16) := fun v1 k0_t34 v228 v257 k0_hw21 k0_t37 => k0_hw21.2.2.2.2.2.2.1.2.2.2.2.2.2.2.2.2.2.2.2.2.2.2.2.2.2.2.2.2.2.1 k0_t37 (k0_off608_inb v1 k0_t34 v228 v257 k0_hw21 k0_t37)
theorem k0_off610_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off610 v1 k0_t34 v228 v257 k0_t37) a + S1x1x1x16x128.size a ≤ S2x2x108x128x128.size a := fun v1 k0_t34 v228 v257 k0_hw21 k0_t37 => k0_hw21.2.2.2.2.2.2.1.2.2.2.2.2.2.2.2.2.2.2.2.2.2.2.2.2.2.2.2.2.2.2.1 k0_t37
theorem k0_off610_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off610 v1 k0_t34 v228 v257 k0_t37) S1x1x1x16x128.size (k0_off610_inb v1 k0_t34 v228 v257 k0_hw21 k0_t37)).PackedRows (EltTy.packing .bf16) := fun v1 k0_t34 v228 v257 k0_hw21 k0_t37 => k0_hw21.2.2.2.2.2.2.1.2.2.2.2.2.2.2.2.2.2.2.2.2.2.2.2.2.2.2.2.2.2.2.2.1 k0_t37 (k0_off610_inb v1 k0_t34 v228 v257 k0_hw21 k0_t37)
theorem k0_off611_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off611 v1 k0_t34 v228 v257 k0_t37) a + S1x1x1x32x128.size a ≤ S2x2x8x1728x128.size a := fun v1 k0_t34 v228 v257 k0_hw21 k0_t37 => k0_hw21.2.2.2.2.2.2.1.2.2.2.2.2.2.2.2.2.2.2.2.2.2.2.2.2.2.2.2.2.2.2.2.2.1 k0_t37
theorem k0_off613_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off613 v1 k0_t34 v228 v257 k0_t37) a + S1x1x1x16x128.size a ≤ S2x2x108x128x128.size a := fun v1 k0_t34 v228 v257 k0_hw21 k0_t37 => k0_hw21.2.2.2.2.2.2.1.2.2.2.2.2.2.2.2.2.2.2.2.2.2.2.2.2.2.2.2.2.2.2.2.2.2.1 k0_t37
theorem k0_off613_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off613 v1 k0_t34 v228 v257 k0_t37) S1x1x1x16x128.size (k0_off613_inb v1 k0_t34 v228 v257 k0_hw21 k0_t37)).PackedRows (EltTy.packing .bf16) := fun v1 k0_t34 v228 v257 k0_hw21 k0_t37 => k0_hw21.2.2.2.2.2.2.1.2.2.2.2.2.2.2.2.2.2.2.2.2.2.2.2.2.2.2.2.2.2.2.2.2.2.2.1 k0_t37 (k0_off613_inb v1 k0_t34 v228 v257 k0_hw21 k0_t37)
theorem k0_off615_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off615 v1 k0_t34 v228 v257 k0_t37) a + S1x1x1x16x128.size a ≤ S2x2x108x128x128.size a := fun v1 k0_t34 v228 v257 k0_hw21 k0_t37 => k0_hw21.2.2.2.2.2.2.1.2.2.2.2.2.2.2.2.2.2.2.2.2.2.2.2.2.2.2.2.2.2.2.2.2.2.2.2.1 k0_t37
theorem k0_off615_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off615 v1 k0_t34 v228 v257 k0_t37) S1x1x1x16x128.size (k0_off615_inb v1 k0_t34 v228 v257 k0_hw21 k0_t37)).PackedRows (EltTy.packing .bf16) := fun v1 k0_t34 v228 v257 k0_hw21 k0_t37 => k0_hw21.2.2.2.2.2.2.1.2.2.2.2.2.2.2.2.2.2.2.2.2.2.2.2.2.2.2.2.2.2.2.2.2.2.2.2.2.1 k0_t37 (k0_off615_inb v1 k0_t34 v228 v257 k0_hw21 k0_t37)
theorem k0_off616_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off616 v1 k0_t34 v228 v257 k0_t37) a + S1x1x1x32x128.size a ≤ S2x2x8x1728x128.size a := fun v1 k0_t34 v228 v257 k0_hw21 k0_t37 => k0_hw21.2.2.2.2.2.2.1.2.2.2.2.2.2.2.2.2.2.2.2.2.2.2.2.2.2.2.2.2.2.2.2.2.2.2.2.2.2.1 k0_t37
theorem k0_off618_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off618 v1 k0_t34 v228 v257 k0_t37) a + S1x1x1x16x128.size a ≤ S2x2x108x128x128.size a := fun v1 k0_t34 v228 v257 k0_hw21 k0_t37 => k0_hw21.2.2.2.2.2.2.1.2.2.2.2.2.2.2.2.2.2.2.2.2.2.2.2.2.2.2.2.2.2.2.2.2.2.2.2.2.2.2 k0_t37
theorem k0_off618_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off618 v1 k0_t34 v228 v257 k0_t37) S1x1x1x16x128.size (k0_off618_inb v1 k0_t34 v228 v257 k0_hw21 k0_t37)).PackedRows (EltTy.packing .bf16) := fun v1 k0_t34 v228 v257 k0_hw21 k0_t37 => k0_hw21.2.2.2.2.2.2.2.1.1 k0_t37 (k0_off618_inb v1 k0_t34 v228 v257 k0_hw21 k0_t37)
theorem k0_off620_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off620 v1 k0_t34 v228 v257 k0_t37) a + S1x1x1x16x128.size a ≤ S2x2x108x128x128.size a := fun v1 k0_t34 v228 v257 k0_hw21 k0_t37 => k0_hw21.2.2.2.2.2.2.2.1.2.1 k0_t37
theorem k0_off620_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off620 v1 k0_t34 v228 v257 k0_t37) S1x1x1x16x128.size (k0_off620_inb v1 k0_t34 v228 v257 k0_hw21 k0_t37)).PackedRows (EltTy.packing .bf16) := fun v1 k0_t34 v228 v257 k0_hw21 k0_t37 => k0_hw21.2.2.2.2.2.2.2.1.2.2.1 k0_t37 (k0_off620_inb v1 k0_t34 v228 v257 k0_hw21 k0_t37)
theorem k0_off621_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off621 v1 k0_t34 v228 v257 k0_t37) a + S1x1x1x32x128.size a ≤ S2x2x8x1728x128.size a := fun v1 k0_t34 v228 v257 k0_hw21 k0_t37 => k0_hw21.2.2.2.2.2.2.2.1.2.2.2.1 k0_t37
theorem k0_off623_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off623 v1 k0_t34 v228 v257 k0_t37) a + S1x1x1x16x128.size a ≤ S2x2x108x128x128.size a := fun v1 k0_t34 v228 v257 k0_hw21 k0_t37 => k0_hw21.2.2.2.2.2.2.2.1.2.2.2.2.1 k0_t37
theorem k0_off623_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off623 v1 k0_t34 v228 v257 k0_t37) S1x1x1x16x128.size (k0_off623_inb v1 k0_t34 v228 v257 k0_hw21 k0_t37)).PackedRows (EltTy.packing .bf16) := fun v1 k0_t34 v228 v257 k0_hw21 k0_t37 => k0_hw21.2.2.2.2.2.2.2.1.2.2.2.2.2.1 k0_t37 (k0_off623_inb v1 k0_t34 v228 v257 k0_hw21 k0_t37)
theorem k0_off625_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off625 v1 k0_t34 v228 v257 k0_t37) a + S1x1x1x16x128.size a ≤ S2x2x108x128x128.size a := fun v1 k0_t34 v228 v257 k0_hw21 k0_t37 => k0_hw21.2.2.2.2.2.2.2.1.2.2.2.2.2.2.1 k0_t37
theorem k0_off625_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off625 v1 k0_t34 v228 v257 k0_t37) S1x1x1x16x128.size (k0_off625_inb v1 k0_t34 v228 v257 k0_hw21 k0_t37)).PackedRows (EltTy.packing .bf16) := fun v1 k0_t34 v228 v257 k0_hw21 k0_t37 => k0_hw21.2.2.2.2.2.2.2.1.2.2.2.2.2.2.2.1 k0_t37 (k0_off625_inb v1 k0_t34 v228 v257 k0_hw21 k0_t37)
theorem k0_off626_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off626 v1 k0_t34 v228 v257 k0_t37) a + S1x1x1x32x128.size a ≤ S2x2x8x1728x128.size a := fun v1 k0_t34 v228 v257 k0_hw21 k0_t37 => k0_hw21.2.2.2.2.2.2.2.1.2.2.2.2.2.2.2.2.1 k0_t37
theorem k0_off628_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off628 v1 k0_t34 v228 v257 k0_t37) a + S1x1x1x16x128.size a ≤ S2x2x108x128x128.size a := fun v1 k0_t34 v228 v257 k0_hw21 k0_t37 => k0_hw21.2.2.2.2.2.2.2.1.2.2.2.2.2.2.2.2.2.1 k0_t37
theorem k0_off628_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off628 v1 k0_t34 v228 v257 k0_t37) S1x1x1x16x128.size (k0_off628_inb v1 k0_t34 v228 v257 k0_hw21 k0_t37)).PackedRows (EltTy.packing .bf16) := fun v1 k0_t34 v228 v257 k0_hw21 k0_t37 => k0_hw21.2.2.2.2.2.2.2.1.2.2.2.2.2.2.2.2.2.2.1 k0_t37 (k0_off628_inb v1 k0_t34 v228 v257 k0_hw21 k0_t37)
theorem k0_off630_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off630 v1 k0_t34 v228 v257 k0_t37) a + S1x1x1x16x128.size a ≤ S2x2x108x128x128.size a := fun v1 k0_t34 v228 v257 k0_hw21 k0_t37 => k0_hw21.2.2.2.2.2.2.2.1.2.2.2.2.2.2.2.2.2.2.2.1 k0_t37
theorem k0_off630_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off630 v1 k0_t34 v228 v257 k0_t37) S1x1x1x16x128.size (k0_off630_inb v1 k0_t34 v228 v257 k0_hw21 k0_t37)).PackedRows (EltTy.packing .bf16) := fun v1 k0_t34 v228 v257 k0_hw21 k0_t37 => k0_hw21.2.2.2.2.2.2.2.1.2.2.2.2.2.2.2.2.2.2.2.2.1 k0_t37 (k0_off630_inb v1 k0_t34 v228 v257 k0_hw21 k0_t37)
theorem k0_off631_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off631 v1 k0_t34 v228 v257 k0_t37) a + S1x1x1x32x128.size a ≤ S2x2x8x1728x128.size a := fun v1 k0_t34 v228 v257 k0_hw21 k0_t37 => k0_hw21.2.2.2.2.2.2.2.1.2.2.2.2.2.2.2.2.2.2.2.2.2.1 k0_t37
theorem k0_off633_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off633 v1 k0_t34 v228 v257 k0_t37) a + S1x1x1x16x128.size a ≤ S2x2x108x128x128.size a := fun v1 k0_t34 v228 v257 k0_hw21 k0_t37 => k0_hw21.2.2.2.2.2.2.2.1.2.2.2.2.2.2.2.2.2.2.2.2.2.2.1 k0_t37
theorem k0_off633_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off633 v1 k0_t34 v228 v257 k0_t37) S1x1x1x16x128.size (k0_off633_inb v1 k0_t34 v228 v257 k0_hw21 k0_t37)).PackedRows (EltTy.packing .bf16) := fun v1 k0_t34 v228 v257 k0_hw21 k0_t37 => k0_hw21.2.2.2.2.2.2.2.1.2.2.2.2.2.2.2.2.2.2.2.2.2.2.2.1 k0_t37 (k0_off633_inb v1 k0_t34 v228 v257 k0_hw21 k0_t37)
theorem k0_off635_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off635 v1 k0_t34 v228 v257 k0_t37) a + S1x1x1x16x128.size a ≤ S2x2x108x128x128.size a := fun v1 k0_t34 v228 v257 k0_hw21 k0_t37 => k0_hw21.2.2.2.2.2.2.2.1.2.2.2.2.2.2.2.2.2.2.2.2.2.2.2.2.1 k0_t37
theorem k0_off635_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off635 v1 k0_t34 v228 v257 k0_t37) S1x1x1x16x128.size (k0_off635_inb v1 k0_t34 v228 v257 k0_hw21 k0_t37)).PackedRows (EltTy.packing .bf16) := fun v1 k0_t34 v228 v257 k0_hw21 k0_t37 => k0_hw21.2.2.2.2.2.2.2.1.2.2.2.2.2.2.2.2.2.2.2.2.2.2.2.2.2.1 k0_t37 (k0_off635_inb v1 k0_t34 v228 v257 k0_hw21 k0_t37)
theorem k0_off636_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off636 v1 k0_t34 v228 v257 k0_t37) a + S1x1x1x32x128.size a ≤ S2x2x8x1728x128.size a := fun v1 k0_t34 v228 v257 k0_hw21 k0_t37 => k0_hw21.2.2.2.2.2.2.2.1.2.2.2.2.2.2.2.2.2.2.2.2.2.2.2.2.2.2.1 k0_t37
theorem k0_off638_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off638 v1 k0_t34 v228 v257 k0_t37) a + S1x1x1x16x128.size a ≤ S2x2x108x128x128.size a := fun v1 k0_t34 v228 v257 k0_hw21 k0_t37 => k0_hw21.2.2.2.2.2.2.2.1.2.2.2.2.2.2.2.2.2.2.2.2.2.2.2.2.2.2.2.1 k0_t37
theorem k0_off638_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off638 v1 k0_t34 v228 v257 k0_t37) S1x1x1x16x128.size (k0_off638_inb v1 k0_t34 v228 v257 k0_hw21 k0_t37)).PackedRows (EltTy.packing .bf16) := fun v1 k0_t34 v228 v257 k0_hw21 k0_t37 => k0_hw21.2.2.2.2.2.2.2.1.2.2.2.2.2.2.2.2.2.2.2.2.2.2.2.2.2.2.2.2.1 k0_t37 (k0_off638_inb v1 k0_t34 v228 v257 k0_hw21 k0_t37)
theorem k0_off640_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off640 v1 k0_t34 v228 v257 k0_t37) a + S1x1x1x16x128.size a ≤ S2x2x108x128x128.size a := fun v1 k0_t34 v228 v257 k0_hw21 k0_t37 => k0_hw21.2.2.2.2.2.2.2.1.2.2.2.2.2.2.2.2.2.2.2.2.2.2.2.2.2.2.2.2.2.1 k0_t37
theorem k0_off640_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off640 v1 k0_t34 v228 v257 k0_t37) S1x1x1x16x128.size (k0_off640_inb v1 k0_t34 v228 v257 k0_hw21 k0_t37)).PackedRows (EltTy.packing .bf16) := fun v1 k0_t34 v228 v257 k0_hw21 k0_t37 => k0_hw21.2.2.2.2.2.2.2.1.2.2.2.2.2.2.2.2.2.2.2.2.2.2.2.2.2.2.2.2.2.2.1 k0_t37 (k0_off640_inb v1 k0_t34 v228 v257 k0_hw21 k0_t37)
theorem k0_off641_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off641 v1 k0_t34 v228 v257 k0_t37) a + S1x1x1x32x128.size a ≤ S2x2x8x1728x128.size a := fun v1 k0_t34 v228 v257 k0_hw21 k0_t37 => k0_hw21.2.2.2.2.2.2.2.1.2.2.2.2.2.2.2.2.2.2.2.2.2.2.2.2.2.2.2.2.2.2.2.1 k0_t37
theorem k0_off643_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off643 v1 k0_t34 v228 v257 k0_t37) a + S1x1x1x16x128.size a ≤ S2x2x108x128x128.size a := fun v1 k0_t34 v228 v257 k0_hw21 k0_t37 => k0_hw21.2.2.2.2.2.2.2.1.2.2.2.2.2.2.2.2.2.2.2.2.2.2.2.2.2.2.2.2.2.2.2.2.1 k0_t37
theorem k0_off643_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off643 v1 k0_t34 v228 v257 k0_t37) S1x1x1x16x128.size (k0_off643_inb v1 k0_t34 v228 v257 k0_hw21 k0_t37)).PackedRows (EltTy.packing .bf16) := fun v1 k0_t34 v228 v257 k0_hw21 k0_t37 => k0_hw21.2.2.2.2.2.2.2.1.2.2.2.2.2.2.2.2.2.2.2.2.2.2.2.2.2.2.2.2.2.2.2.2.2.1 k0_t37 (k0_off643_inb v1 k0_t34 v228 v257 k0_hw21 k0_t37)
theorem k0_off645_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off645 v1 k0_t34 v228 v257 k0_t37) a + S1x1x1x16x128.size a ≤ S2x2x108x128x128.size a := fun v1 k0_t34 v228 v257 k0_hw21 k0_t37 => k0_hw21.2.2.2.2.2.2.2.1.2.2.2.2.2.2.2.2.2.2.2.2.2.2.2.2.2.2.2.2.2.2.2.2.2.2.1 k0_t37
theorem k0_off645_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off645 v1 k0_t34 v228 v257 k0_t37) S1x1x1x16x128.size (k0_off645_inb v1 k0_t34 v228 v257 k0_hw21 k0_t37)).PackedRows (EltTy.packing .bf16) := fun v1 k0_t34 v228 v257 k0_hw21 k0_t37 => k0_hw21.2.2.2.2.2.2.2.1.2.2.2.2.2.2.2.2.2.2.2.2.2.2.2.2.2.2.2.2.2.2.2.2.2.2.2.1 k0_t37 (k0_off645_inb v1 k0_t34 v228 v257 k0_hw21 k0_t37)
theorem k0_off646_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off646 v1 k0_t34 v228 v257 k0_t37) a + S1x1x1x32x128.size a ≤ S2x2x8x1728x128.size a := fun v1 k0_t34 v228 v257 k0_hw21 k0_t37 => k0_hw21.2.2.2.2.2.2.2.1.2.2.2.2.2.2.2.2.2.2.2.2.2.2.2.2.2.2.2.2.2.2.2.2.2.2.2.2.1 k0_t37
theorem k0_off648_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off648 v1 k0_t34 v228 v257 k0_t37) a + S1x1x1x16x128.size a ≤ S2x2x108x128x128.size a := fun v1 k0_t34 v228 v257 k0_hw21 k0_t37 => k0_hw21.2.2.2.2.2.2.2.1.2.2.2.2.2.2.2.2.2.2.2.2.2.2.2.2.2.2.2.2.2.2.2.2.2.2.2.2.2.1 k0_t37
theorem k0_off648_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off648 v1 k0_t34 v228 v257 k0_t37) S1x1x1x16x128.size (k0_off648_inb v1 k0_t34 v228 v257 k0_hw21 k0_t37)).PackedRows (EltTy.packing .bf16) := fun v1 k0_t34 v228 v257 k0_hw21 k0_t37 => k0_hw21.2.2.2.2.2.2.2.1.2.2.2.2.2.2.2.2.2.2.2.2.2.2.2.2.2.2.2.2.2.2.2.2.2.2.2.2.2.2.1 k0_t37 (k0_off648_inb v1 k0_t34 v228 v257 k0_hw21 k0_t37)
theorem k0_off650_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off650 v1 k0_t34 v228 v257 k0_t37) a + S1x1x1x16x128.size a ≤ S2x2x108x128x128.size a := fun v1 k0_t34 v228 v257 k0_hw21 k0_t37 => k0_hw21.2.2.2.2.2.2.2.1.2.2.2.2.2.2.2.2.2.2.2.2.2.2.2.2.2.2.2.2.2.2.2.2.2.2.2.2.2.2.2 k0_t37
theorem k0_off650_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off650 v1 k0_t34 v228 v257 k0_t37) S1x1x1x16x128.size (k0_off650_inb v1 k0_t34 v228 v257 k0_hw21 k0_t37)).PackedRows (EltTy.packing .bf16) := fun v1 k0_t34 v228 v257 k0_hw21 k0_t37 => k0_hw21.2.2.2.2.2.2.2.2.1.1 k0_t37 (k0_off650_inb v1 k0_t34 v228 v257 k0_hw21 k0_t37)
theorem k0_off651_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off651 v1 k0_t34 v228 v257 k0_t37) a + S1x1x1x32x128.size a ≤ S2x2x8x1728x128.size a := fun v1 k0_t34 v228 v257 k0_hw21 k0_t37 => k0_hw21.2.2.2.2.2.2.2.2.1.2.1 k0_t37
theorem k0_off653_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off653 v1 k0_t34 v228 v257 k0_t37) a + S1x1x1x16x128.size a ≤ S2x2x108x128x128.size a := fun v1 k0_t34 v228 v257 k0_hw21 k0_t37 => k0_hw21.2.2.2.2.2.2.2.2.1.2.2.1 k0_t37
theorem k0_off653_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off653 v1 k0_t34 v228 v257 k0_t37) S1x1x1x16x128.size (k0_off653_inb v1 k0_t34 v228 v257 k0_hw21 k0_t37)).PackedRows (EltTy.packing .bf16) := fun v1 k0_t34 v228 v257 k0_hw21 k0_t37 => k0_hw21.2.2.2.2.2.2.2.2.1.2.2.2.1 k0_t37 (k0_off653_inb v1 k0_t34 v228 v257 k0_hw21 k0_t37)
theorem k0_off655_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off655 v1 k0_t34 v228 v257 k0_t37) a + S1x1x1x16x128.size a ≤ S2x2x108x128x128.size a := fun v1 k0_t34 v228 v257 k0_hw21 k0_t37 => k0_hw21.2.2.2.2.2.2.2.2.1.2.2.2.2.1 k0_t37
theorem k0_off655_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off655 v1 k0_t34 v228 v257 k0_t37) S1x1x1x16x128.size (k0_off655_inb v1 k0_t34 v228 v257 k0_hw21 k0_t37)).PackedRows (EltTy.packing .bf16) := fun v1 k0_t34 v228 v257 k0_hw21 k0_t37 => k0_hw21.2.2.2.2.2.2.2.2.1.2.2.2.2.2.1 k0_t37 (k0_off655_inb v1 k0_t34 v228 v257 k0_hw21 k0_t37)
theorem k0_off656_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off656 v1 k0_t34 v228 v257 k0_t37) a + S1x1x1x32x128.size a ≤ S2x2x8x1728x128.size a := fun v1 k0_t34 v228 v257 k0_hw21 k0_t37 => k0_hw21.2.2.2.2.2.2.2.2.1.2.2.2.2.2.2.1 k0_t37
theorem k0_off658_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off658 v1 k0_t34 v228 v257 k0_t37) a + S1x1x1x16x128.size a ≤ S2x2x108x128x128.size a := fun v1 k0_t34 v228 v257 k0_hw21 k0_t37 => k0_hw21.2.2.2.2.2.2.2.2.1.2.2.2.2.2.2.2.1 k0_t37
theorem k0_off658_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off658 v1 k0_t34 v228 v257 k0_t37) S1x1x1x16x128.size (k0_off658_inb v1 k0_t34 v228 v257 k0_hw21 k0_t37)).PackedRows (EltTy.packing .bf16) := fun v1 k0_t34 v228 v257 k0_hw21 k0_t37 => k0_hw21.2.2.2.2.2.2.2.2.1.2.2.2.2.2.2.2.2.1 k0_t37 (k0_off658_inb v1 k0_t34 v228 v257 k0_hw21 k0_t37)
theorem k0_off660_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off660 v1 k0_t34 v228 v257 k0_t37) a + S1x1x1x16x128.size a ≤ S2x2x108x128x128.size a := fun v1 k0_t34 v228 v257 k0_hw21 k0_t37 => k0_hw21.2.2.2.2.2.2.2.2.1.2.2.2.2.2.2.2.2.2.1 k0_t37
theorem k0_off660_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off660 v1 k0_t34 v228 v257 k0_t37) S1x1x1x16x128.size (k0_off660_inb v1 k0_t34 v228 v257 k0_hw21 k0_t37)).PackedRows (EltTy.packing .bf16) := fun v1 k0_t34 v228 v257 k0_hw21 k0_t37 => k0_hw21.2.2.2.2.2.2.2.2.1.2.2.2.2.2.2.2.2.2.2.1 k0_t37 (k0_off660_inb v1 k0_t34 v228 v257 k0_hw21 k0_t37)
theorem k0_off661_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off661 v1 k0_t34 v228 v257 k0_t37) a + S1x1x1x32x128.size a ≤ S2x2x8x1728x128.size a := fun v1 k0_t34 v228 v257 k0_hw21 k0_t37 => k0_hw21.2.2.2.2.2.2.2.2.1.2.2.2.2.2.2.2.2.2.2.2.1 k0_t37
theorem k0_off663_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off663 v1 k0_t34 v228 v257 k0_t37) a + S1x1x1x16x128.size a ≤ S2x2x108x128x128.size a := fun v1 k0_t34 v228 v257 k0_hw21 k0_t37 => k0_hw21.2.2.2.2.2.2.2.2.1.2.2.2.2.2.2.2.2.2.2.2.2.1 k0_t37
theorem k0_off663_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off663 v1 k0_t34 v228 v257 k0_t37) S1x1x1x16x128.size (k0_off663_inb v1 k0_t34 v228 v257 k0_hw21 k0_t37)).PackedRows (EltTy.packing .bf16) := fun v1 k0_t34 v228 v257 k0_hw21 k0_t37 => k0_hw21.2.2.2.2.2.2.2.2.1.2.2.2.2.2.2.2.2.2.2.2.2.2.1 k0_t37 (k0_off663_inb v1 k0_t34 v228 v257 k0_hw21 k0_t37)
theorem k0_off665_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off665 v1 k0_t34 v228 v257 k0_t37) a + S1x1x1x16x128.size a ≤ S2x2x108x128x128.size a := fun v1 k0_t34 v228 v257 k0_hw21 k0_t37 => k0_hw21.2.2.2.2.2.2.2.2.1.2.2.2.2.2.2.2.2.2.2.2.2.2.2.1 k0_t37
theorem k0_off665_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off665 v1 k0_t34 v228 v257 k0_t37) S1x1x1x16x128.size (k0_off665_inb v1 k0_t34 v228 v257 k0_hw21 k0_t37)).PackedRows (EltTy.packing .bf16) := fun v1 k0_t34 v228 v257 k0_hw21 k0_t37 => k0_hw21.2.2.2.2.2.2.2.2.1.2.2.2.2.2.2.2.2.2.2.2.2.2.2.2.1 k0_t37 (k0_off665_inb v1 k0_t34 v228 v257 k0_hw21 k0_t37)
theorem k0_off666_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off666 v1 k0_t34 v228 v257 k0_t37) a + S1x1x1x32x128.size a ≤ S2x2x8x1728x128.size a := fun v1 k0_t34 v228 v257 k0_hw21 k0_t37 => k0_hw21.2.2.2.2.2.2.2.2.1.2.2.2.2.2.2.2.2.2.2.2.2.2.2.2.2.1 k0_t37
theorem k0_off668_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off668 v1 k0_t34 v228 v257 k0_t37) a + S1x1x1x16x128.size a ≤ S2x2x108x128x128.size a := fun v1 k0_t34 v228 v257 k0_hw21 k0_t37 => k0_hw21.2.2.2.2.2.2.2.2.1.2.2.2.2.2.2.2.2.2.2.2.2.2.2.2.2.2.1 k0_t37
theorem k0_off668_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off668 v1 k0_t34 v228 v257 k0_t37) S1x1x1x16x128.size (k0_off668_inb v1 k0_t34 v228 v257 k0_hw21 k0_t37)).PackedRows (EltTy.packing .bf16) := fun v1 k0_t34 v228 v257 k0_hw21 k0_t37 => k0_hw21.2.2.2.2.2.2.2.2.1.2.2.2.2.2.2.2.2.2.2.2.2.2.2.2.2.2.2.1 k0_t37 (k0_off668_inb v1 k0_t34 v228 v257 k0_hw21 k0_t37)
theorem k0_off670_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off670 v1 k0_t34 v228 v257 k0_t37) a + S1x1x1x16x128.size a ≤ S2x2x108x128x128.size a := fun v1 k0_t34 v228 v257 k0_hw21 k0_t37 => k0_hw21.2.2.2.2.2.2.2.2.1.2.2.2.2.2.2.2.2.2.2.2.2.2.2.2.2.2.2.2.1 k0_t37
theorem k0_off670_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off670 v1 k0_t34 v228 v257 k0_t37) S1x1x1x16x128.size (k0_off670_inb v1 k0_t34 v228 v257 k0_hw21 k0_t37)).PackedRows (EltTy.packing .bf16) := fun v1 k0_t34 v228 v257 k0_hw21 k0_t37 => k0_hw21.2.2.2.2.2.2.2.2.1.2.2.2.2.2.2.2.2.2.2.2.2.2.2.2.2.2.2.2.2.1 k0_t37 (k0_off670_inb v1 k0_t34 v228 v257 k0_hw21 k0_t37)
theorem k0_off671_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off671 v1 k0_t34 v228 v257 k0_t37) a + S1x1x1x32x128.size a ≤ S2x2x8x1728x128.size a := fun v1 k0_t34 v228 v257 k0_hw21 k0_t37 => k0_hw21.2.2.2.2.2.2.2.2.1.2.2.2.2.2.2.2.2.2.2.2.2.2.2.2.2.2.2.2.2.2.1 k0_t37
theorem k0_off673_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off673 v1 k0_t34 v228 v257 k0_t37) a + S1x1x1x16x128.size a ≤ S2x2x108x128x128.size a := fun v1 k0_t34 v228 v257 k0_hw21 k0_t37 => k0_hw21.2.2.2.2.2.2.2.2.1.2.2.2.2.2.2.2.2.2.2.2.2.2.2.2.2.2.2.2.2.2.2.1 k0_t37
theorem k0_off673_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off673 v1 k0_t34 v228 v257 k0_t37) S1x1x1x16x128.size (k0_off673_inb v1 k0_t34 v228 v257 k0_hw21 k0_t37)).PackedRows (EltTy.packing .bf16) := fun v1 k0_t34 v228 v257 k0_hw21 k0_t37 => k0_hw21.2.2.2.2.2.2.2.2.1.2.2.2.2.2.2.2.2.2.2.2.2.2.2.2.2.2.2.2.2.2.2.2.1 k0_t37 (k0_off673_inb v1 k0_t34 v228 v257 k0_hw21 k0_t37)
theorem k0_off675_inb : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), ∀ a, (k0_off675 v1 k0_t34 v228 v257 k0_t37) a + S1x1x1x16x128.size a ≤ S2x2x108x128x128.size a := fun v1 k0_t34 v228 v257 k0_hw21 k0_t37 => k0_hw21.2.2.2.2.2.2.2.2.1.2.2.2.2.2.2.2.2.2.2.2.2.2.2.2.2.2.2.2.2.2.2.2.2.1 k0_t37
theorem k0_off675_packedbf16 : ∀ (v1 : BitVec 32) (k0_t34 : Fin (k0_t34_loop v1).trips) (v228 : BitVec 32) (v257 : BitVec 32) (k0_hw21 : k0_chk21 v1 k0_t34 v228 v257) (k0_t37 : Fin (k0_t37_loop v228 v257).trips), (Rect.unit (s := S2x2x108x128x128) (k0_off675 v1 k0_t34 v228 v257 k0_t37) S1x1x1x16x128.size (k0_off675_inb v1 k0_t34 v228 v257 k0_hw21 k0_t37)).PackedRows (EltTy.packing .bf16) := fun v1 k0_t34 v228 v257 k0_hw21 k0_t37 => k0_hw21.2.2.2.2.2.2.2.2.1.2.2.2.2.2.2.2.2.2.2.2.2.2.2.2.2.2.2.2.2.2.2.2.2.2.1 k0_t37 (k0_off675_inb v1 k0_t34 v228 v257 k0_hw21 k0_t37)
theorem k0_t38_ok : ∀ (v1 : BitVec 32) (k0_t34 : Fin (k0_t34_loop v1).trips) (v228 : BitVec 32) (v257 : BitVec 32) (k0_hw21 : k0_chk21 v1 k0_t34 v228 v257), (k0_t38_loop v228 v257).OK := fun v1 k0_t34 v228 v257 k0_hw21 => k0_hw21.2.2.2.2.2.2.2.2.1.2.2.2.2.2.2.2.2.2.2.2.2.2.2.2.2.2.2.2.2.2.2.2.2.2.2.1
theorem k0_off676_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off676 v228 v257 k0_t38) a + S1x1.size a ≤ S8x128.size a := fun v1 k0_t34 v228 v257 k0_hw21 k0_t38 => k0_hw21.2.2.2.2.2.2.2.2.1.2.2.2.2.2.2.2.2.2.2.2.2.2.2.2.2.2.2.2.2.2.2.2.2.2.2.2.1 k0_t38
theorem k0_off677_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off677 v228) a + S1.size a ≤ S8.size a := fun v1 k0_t34 v228 v257 k0_hw21 k0_t38 => k0_hw21.2.2.2.2.2.2.2.2.1.2.2.2.2.2.2.2.2.2.2.2.2.2.2.2.2.2.2.2.2.2.2.2.2.2.2.2.2.1 k0_t38
theorem k0_mult7_dvd : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), 16 ∣ (k0_mult7 v228 v257 k0_t38).toNat := fun v1 k0_t34 v228 v257 k0_hw21 k0_t38 => k0_hw21.2.2.2.2.2.2.2.2.1.2.2.2.2.2.2.2.2.2.2.2.2.2.2.2.2.2.2.2.2.2.2.2.2.2.2.2.2.2.1 k0_t38
theorem k0_off678_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off678 v1 k0_t34 v228 v257 k0_t38) a + S1x1x1x32x128.size a ≤ S2x2x8x1728x128.size a := fun v1 k0_t34 v228 v257 k0_hw21 k0_t38 => k0_hw21.2.2.2.2.2.2.2.2.1.2.2.2.2.2.2.2.2.2.2.2.2.2.2.2.2.2.2.2.2.2.2.2.2.2.2.2.2.2.2.1 k0_t38
theorem k0_off680_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off680 v1 k0_t34 v228 v257 k0_t38) a + S1x1x1x16x128.size a ≤ S2x2x108x128x128.size a := fun v1 k0_t34 v228 v257 k0_hw21 k0_t38 => k0_hw21.2.2.2.2.2.2.2.2.1.2.2.2.2.2.2.2.2.2.2.2.2.2.2.2.2.2.2.2.2.2.2.2.2.2.2.2.2.2.2.2 k0_t38
theorem k0_off680_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off680 v1 k0_t34 v228 v257 k0_t38) S1x1x1x16x128.size (k0_off680_inb v1 k0_t34 v228 v257 k0_hw21 k0_t38)).PackedRows (EltTy.packing .bf16) := fun v1 k0_t34 v228 v257 k0_hw21 k0_t38 => k0_hw21.2.2.2.2.2.2.2.2.2.1.1 k0_t38 (k0_off680_inb v1 k0_t34 v228 v257 k0_hw21 k0_t38)
theorem k0_off682_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off682 v1 k0_t34 v228 v257 k0_t38) a + S1x1x1x16x128.size a ≤ S2x2x108x128x128.size a := fun v1 k0_t34 v228 v257 k0_hw21 k0_t38 => k0_hw21.2.2.2.2.2.2.2.2.2.1.2.1 k0_t38
theorem k0_off682_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off682 v1 k0_t34 v228 v257 k0_t38) S1x1x1x16x128.size (k0_off682_inb v1 k0_t34 v228 v257 k0_hw21 k0_t38)).PackedRows (EltTy.packing .bf16) := fun v1 k0_t34 v228 v257 k0_hw21 k0_t38 => k0_hw21.2.2.2.2.2.2.2.2.2.1.2.2.1 k0_t38 (k0_off682_inb v1 k0_t34 v228 v257 k0_hw21 k0_t38)
theorem k0_off683_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off683 v1 k0_t34 v228 v257 k0_t38) a + S1x1x1x32x128.size a ≤ S2x2x8x1728x128.size a := fun v1 k0_t34 v228 v257 k0_hw21 k0_t38 => k0_hw21.2.2.2.2.2.2.2.2.2.1.2.2.2.1 k0_t38
theorem k0_off685_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off685 v1 k0_t34 v228 v257 k0_t38) a + S1x1x1x16x128.size a ≤ S2x2x108x128x128.size a := fun v1 k0_t34 v228 v257 k0_hw21 k0_t38 => k0_hw21.2.2.2.2.2.2.2.2.2.1.2.2.2.2.1 k0_t38
theorem k0_off685_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off685 v1 k0_t34 v228 v257 k0_t38) S1x1x1x16x128.size (k0_off685_inb v1 k0_t34 v228 v257 k0_hw21 k0_t38)).PackedRows (EltTy.packing .bf16) := fun v1 k0_t34 v228 v257 k0_hw21 k0_t38 => k0_hw21.2.2.2.2.2.2.2.2.2.1.2.2.2.2.2.1 k0_t38 (k0_off685_inb v1 k0_t34 v228 v257 k0_hw21 k0_t38)
theorem k0_off687_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off687 v1 k0_t34 v228 v257 k0_t38) a + S1x1x1x16x128.size a ≤ S2x2x108x128x128.size a := fun v1 k0_t34 v228 v257 k0_hw21 k0_t38 => k0_hw21.2.2.2.2.2.2.2.2.2.1.2.2.2.2.2.2.1 k0_t38
theorem k0_off687_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off687 v1 k0_t34 v228 v257 k0_t38) S1x1x1x16x128.size (k0_off687_inb v1 k0_t34 v228 v257 k0_hw21 k0_t38)).PackedRows (EltTy.packing .bf16) := fun v1 k0_t34 v228 v257 k0_hw21 k0_t38 => k0_hw21.2.2.2.2.2.2.2.2.2.1.2.2.2.2.2.2.2.1 k0_t38 (k0_off687_inb v1 k0_t34 v228 v257 k0_hw21 k0_t38)
theorem k0_off688_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off688 v1 k0_t34 v228 v257 k0_t38) a + S1x1x1x32x128.size a ≤ S2x2x8x1728x128.size a := fun v1 k0_t34 v228 v257 k0_hw21 k0_t38 => k0_hw21.2.2.2.2.2.2.2.2.2.1.2.2.2.2.2.2.2.2.1 k0_t38
theorem k0_off690_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off690 v1 k0_t34 v228 v257 k0_t38) a + S1x1x1x16x128.size a ≤ S2x2x108x128x128.size a := fun v1 k0_t34 v228 v257 k0_hw21 k0_t38 => k0_hw21.2.2.2.2.2.2.2.2.2.1.2.2.2.2.2.2.2.2.2.1 k0_t38
theorem k0_off690_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off690 v1 k0_t34 v228 v257 k0_t38) S1x1x1x16x128.size (k0_off690_inb v1 k0_t34 v228 v257 k0_hw21 k0_t38)).PackedRows (EltTy.packing .bf16) := fun v1 k0_t34 v228 v257 k0_hw21 k0_t38 => k0_hw21.2.2.2.2.2.2.2.2.2.1.2.2.2.2.2.2.2.2.2.2.1 k0_t38 (k0_off690_inb v1 k0_t34 v228 v257 k0_hw21 k0_t38)
theorem k0_off692_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off692 v1 k0_t34 v228 v257 k0_t38) a + S1x1x1x16x128.size a ≤ S2x2x108x128x128.size a := fun v1 k0_t34 v228 v257 k0_hw21 k0_t38 => k0_hw21.2.2.2.2.2.2.2.2.2.1.2.2.2.2.2.2.2.2.2.2.2.1 k0_t38
theorem k0_off692_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off692 v1 k0_t34 v228 v257 k0_t38) S1x1x1x16x128.size (k0_off692_inb v1 k0_t34 v228 v257 k0_hw21 k0_t38)).PackedRows (EltTy.packing .bf16) := fun v1 k0_t34 v228 v257 k0_hw21 k0_t38 => k0_hw21.2.2.2.2.2.2.2.2.2.1.2.2.2.2.2.2.2.2.2.2.2.2.1 k0_t38 (k0_off692_inb v1 k0_t34 v228 v257 k0_hw21 k0_t38)
theorem k0_off693_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off693 v1 k0_t34 v228 v257 k0_t38) a + S1x1x1x32x128.size a ≤ S2x2x8x1728x128.size a := fun v1 k0_t34 v228 v257 k0_hw21 k0_t38 => k0_hw21.2.2.2.2.2.2.2.2.2.1.2.2.2.2.2.2.2.2.2.2.2.2.2.1 k0_t38
theorem k0_off695_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off695 v1 k0_t34 v228 v257 k0_t38) a + S1x1x1x16x128.size a ≤ S2x2x108x128x128.size a := fun v1 k0_t34 v228 v257 k0_hw21 k0_t38 => k0_hw21.2.2.2.2.2.2.2.2.2.1.2.2.2.2.2.2.2.2.2.2.2.2.2.2.1 k0_t38
theorem k0_off695_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off695 v1 k0_t34 v228 v257 k0_t38) S1x1x1x16x128.size (k0_off695_inb v1 k0_t34 v228 v257 k0_hw21 k0_t38)).PackedRows (EltTy.packing .bf16) := fun v1 k0_t34 v228 v257 k0_hw21 k0_t38 => k0_hw21.2.2.2.2.2.2.2.2.2.1.2.2.2.2.2.2.2.2.2.2.2.2.2.2.2.1 k0_t38 (k0_off695_inb v1 k0_t34 v228 v257 k0_hw21 k0_t38)
theorem k0_off697_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off697 v1 k0_t34 v228 v257 k0_t38) a + S1x1x1x16x128.size a ≤ S2x2x108x128x128.size a := fun v1 k0_t34 v228 v257 k0_hw21 k0_t38 => k0_hw21.2.2.2.2.2.2.2.2.2.1.2.2.2.2.2.2.2.2.2.2.2.2.2.2.2.2.1 k0_t38
theorem k0_off697_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off697 v1 k0_t34 v228 v257 k0_t38) S1x1x1x16x128.size (k0_off697_inb v1 k0_t34 v228 v257 k0_hw21 k0_t38)).PackedRows (EltTy.packing .bf16) := fun v1 k0_t34 v228 v257 k0_hw21 k0_t38 => k0_hw21.2.2.2.2.2.2.2.2.2.1.2.2.2.2.2.2.2.2.2.2.2.2.2.2.2.2.2.1 k0_t38 (k0_off697_inb v1 k0_t34 v228 v257 k0_hw21 k0_t38)
theorem k0_off698_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off698 v1 k0_t34 v228 v257 k0_t38) a + S1x1x1x32x128.size a ≤ S2x2x8x1728x128.size a := fun v1 k0_t34 v228 v257 k0_hw21 k0_t38 => k0_hw21.2.2.2.2.2.2.2.2.2.1.2.2.2.2.2.2.2.2.2.2.2.2.2.2.2.2.2.2.1 k0_t38
theorem k0_off700_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off700 v1 k0_t34 v228 v257 k0_t38) a + S1x1x1x16x128.size a ≤ S2x2x108x128x128.size a := fun v1 k0_t34 v228 v257 k0_hw21 k0_t38 => k0_hw21.2.2.2.2.2.2.2.2.2.1.2.2.2.2.2.2.2.2.2.2.2.2.2.2.2.2.2.2.2.1 k0_t38
theorem k0_off700_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off700 v1 k0_t34 v228 v257 k0_t38) S1x1x1x16x128.size (k0_off700_inb v1 k0_t34 v228 v257 k0_hw21 k0_t38)).PackedRows (EltTy.packing .bf16) := fun v1 k0_t34 v228 v257 k0_hw21 k0_t38 => k0_hw21.2.2.2.2.2.2.2.2.2.1.2.2.2.2.2.2.2.2.2.2.2.2.2.2.2.2.2.2.2.2.1 k0_t38 (k0_off700_inb v1 k0_t34 v228 v257 k0_hw21 k0_t38)
theorem k0_off702_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off702 v1 k0_t34 v228 v257 k0_t38) a + S1x1x1x16x128.size a ≤ S2x2x108x128x128.size a := fun v1 k0_t34 v228 v257 k0_hw21 k0_t38 => k0_hw21.2.2.2.2.2.2.2.2.2.1.2.2.2.2.2.2.2.2.2.2.2.2.2.2.2.2.2.2.2.2.2.1 k0_t38
theorem k0_off702_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off702 v1 k0_t34 v228 v257 k0_t38) S1x1x1x16x128.size (k0_off702_inb v1 k0_t34 v228 v257 k0_hw21 k0_t38)).PackedRows (EltTy.packing .bf16) := fun v1 k0_t34 v228 v257 k0_hw21 k0_t38 => k0_hw21.2.2.2.2.2.2.2.2.2.1.2.2.2.2.2.2.2.2.2.2.2.2.2.2.2.2.2.2.2.2.2.2.1 k0_t38 (k0_off702_inb v1 k0_t34 v228 v257 k0_hw21 k0_t38)
theorem k0_off703_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off703 v1 k0_t34 v228 v257 k0_t38) a + S1x1x1x32x128.size a ≤ S2x2x8x1728x128.size a := fun v1 k0_t34 v228 v257 k0_hw21 k0_t38 => k0_hw21.2.2.2.2.2.2.2.2.2.1.2.2.2.2.2.2.2.2.2.2.2.2.2.2.2.2.2.2.2.2.2.2.2.1 k0_t38
theorem k0_off705_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off705 v1 k0_t34 v228 v257 k0_t38) a + S1x1x1x16x128.size a ≤ S2x2x108x128x128.size a := fun v1 k0_t34 v228 v257 k0_hw21 k0_t38 => k0_hw21.2.2.2.2.2.2.2.2.2.1.2.2.2.2.2.2.2.2.2.2.2.2.2.2.2.2.2.2.2.2.2.2.2.2.1 k0_t38
theorem k0_off705_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off705 v1 k0_t34 v228 v257 k0_t38) S1x1x1x16x128.size (k0_off705_inb v1 k0_t34 v228 v257 k0_hw21 k0_t38)).PackedRows (EltTy.packing .bf16) := fun v1 k0_t34 v228 v257 k0_hw21 k0_t38 => k0_hw21.2.2.2.2.2.2.2.2.2.1.2.2.2.2.2.2.2.2.2.2.2.2.2.2.2.2.2.2.2.2.2.2.2.2.2.1 k0_t38 (k0_off705_inb v1 k0_t34 v228 v257 k0_hw21 k0_t38)
theorem k0_off707_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off707 v1 k0_t34 v228 v257 k0_t38) a + S1x1x1x16x128.size a ≤ S2x2x108x128x128.size a := fun v1 k0_t34 v228 v257 k0_hw21 k0_t38 => k0_hw21.2.2.2.2.2.2.2.2.2.1.2.2.2.2.2.2.2.2.2.2.2.2.2.2.2.2.2.2.2.2.2.2.2.2.2.2.1 k0_t38
theorem k0_off707_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off707 v1 k0_t34 v228 v257 k0_t38) S1x1x1x16x128.size (k0_off707_inb v1 k0_t34 v228 v257 k0_hw21 k0_t38)).PackedRows (EltTy.packing .bf16) := fun v1 k0_t34 v228 v257 k0_hw21 k0_t38 => k0_hw21.2.2.2.2.2.2.2.2.2.1.2.2.2.2.2.2.2.2.2.2.2.2.2.2.2.2.2.2.2.2.2.2.2.2.2.2.2.1 k0_t38 (k0_off707_inb v1 k0_t34 v228 v257 k0_hw21 k0_t38)
theorem k0_off708_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off708 v1 k0_t34 v228 v257 k0_t38) a + S1x1x1x32x128.size a ≤ S2x2x8x1728x128.size a := fun v1 k0_t34 v228 v257 k0_hw21 k0_t38 => k0_hw21.2.2.2.2.2.2.2.2.2.1.2.2.2.2.2.2.2.2.2.2.2.2.2.2.2.2.2.2.2.2.2.2.2.2.2.2.2.2.1 k0_t38
theorem k0_off710_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off710 v1 k0_t34 v228 v257 k0_t38) a + S1x1x1x16x128.size a ≤ S2x2x108x128x128.size a := fun v1 k0_t34 v228 v257 k0_hw21 k0_t38 => k0_hw21.2.2.2.2.2.2.2.2.2.1.2.2.2.2.2.2.2.2.2.2.2.2.2.2.2.2.2.2.2.2.2.2.2.2.2.2.2.2.2.1 k0_t38
theorem k0_off710_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off710 v1 k0_t34 v228 v257 k0_t38) S1x1x1x16x128.size (k0_off710_inb v1 k0_t34 v228 v257 k0_hw21 k0_t38)).PackedRows (EltTy.packing .bf16) := fun v1 k0_t34 v228 v257 k0_hw21 k0_t38 => k0_hw21.2.2.2.2.2.2.2.2.2.1.2.2.2.2.2.2.2.2.2.2.2.2.2.2.2.2.2.2.2.2.2.2.2.2.2.2.2.2.2.2.1 k0_t38 (k0_off710_inb v1 k0_t34 v228 v257 k0_hw21 k0_t38)
theorem k0_off712_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off712 v1 k0_t34 v228 v257 k0_t38) a + S1x1x1x16x128.size a ≤ S2x2x108x128x128.size a := fun v1 k0_t34 v228 v257 k0_hw21 k0_t38 => k0_hw21.2.2.2.2.2.2.2.2.2.1.2.2.2.2.2.2.2.2.2.2.2.2.2.2.2.2.2.2.2.2.2.2.2.2.2.2.2.2.2.2.2 k0_t38
theorem k0_off712_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off712 v1 k0_t34 v228 v257 k0_t38) S1x1x1x16x128.size (k0_off712_inb v1 k0_t34 v228 v257 k0_hw21 k0_t38)).PackedRows (EltTy.packing .bf16) := fun v1 k0_t34 v228 v257 k0_hw21 k0_t38 => k0_hw21.2.2.2.2.2.2.2.2.2.2.1.1 k0_t38 (k0_off712_inb v1 k0_t34 v228 v257 k0_hw21 k0_t38)
theorem k0_off713_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off713 v1 k0_t34 v228 v257 k0_t38) a + S1x1x1x32x128.size a ≤ S2x2x8x1728x128.size a := fun v1 k0_t34 v228 v257 k0_hw21 k0_t38 => k0_hw21.2.2.2.2.2.2.2.2.2.2.1.2.1 k0_t38
theorem k0_off715_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off715 v1 k0_t34 v228 v257 k0_t38) a + S1x1x1x16x128.size a ≤ S2x2x108x128x128.size a := fun v1 k0_t34 v228 v257 k0_hw21 k0_t38 => k0_hw21.2.2.2.2.2.2.2.2.2.2.1.2.2.1 k0_t38
theorem k0_off715_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off715 v1 k0_t34 v228 v257 k0_t38) S1x1x1x16x128.size (k0_off715_inb v1 k0_t34 v228 v257 k0_hw21 k0_t38)).PackedRows (EltTy.packing .bf16) := fun v1 k0_t34 v228 v257 k0_hw21 k0_t38 => k0_hw21.2.2.2.2.2.2.2.2.2.2.1.2.2.2.1 k0_t38 (k0_off715_inb v1 k0_t34 v228 v257 k0_hw21 k0_t38)
theorem k0_off717_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off717 v1 k0_t34 v228 v257 k0_t38) a + S1x1x1x16x128.size a ≤ S2x2x108x128x128.size a := fun v1 k0_t34 v228 v257 k0_hw21 k0_t38 => k0_hw21.2.2.2.2.2.2.2.2.2.2.1.2.2.2.2.1 k0_t38
theorem k0_off717_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off717 v1 k0_t34 v228 v257 k0_t38) S1x1x1x16x128.size (k0_off717_inb v1 k0_t34 v228 v257 k0_hw21 k0_t38)).PackedRows (EltTy.packing .bf16) := fun v1 k0_t34 v228 v257 k0_hw21 k0_t38 => k0_hw21.2.2.2.2.2.2.2.2.2.2.1.2.2.2.2.2.1 k0_t38 (k0_off717_inb v1 k0_t34 v228 v257 k0_hw21 k0_t38)
theorem k0_off718_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off718 v1 k0_t34 v228 v257 k0_t38) a + S1x1x1x32x128.size a ≤ S2x2x8x1728x128.size a := fun v1 k0_t34 v228 v257 k0_hw21 k0_t38 => k0_hw21.2.2.2.2.2.2.2.2.2.2.1.2.2.2.2.2.2.1 k0_t38
theorem k0_off720_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off720 v1 k0_t34 v228 v257 k0_t38) a + S1x1x1x16x128.size a ≤ S2x2x108x128x128.size a := fun v1 k0_t34 v228 v257 k0_hw21 k0_t38 => k0_hw21.2.2.2.2.2.2.2.2.2.2.1.2.2.2.2.2.2.2.1 k0_t38
theorem k0_off720_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off720 v1 k0_t34 v228 v257 k0_t38) S1x1x1x16x128.size (k0_off720_inb v1 k0_t34 v228 v257 k0_hw21 k0_t38)).PackedRows (EltTy.packing .bf16) := fun v1 k0_t34 v228 v257 k0_hw21 k0_t38 => k0_hw21.2.2.2.2.2.2.2.2.2.2.1.2.2.2.2.2.2.2.2.1 k0_t38 (k0_off720_inb v1 k0_t34 v228 v257 k0_hw21 k0_t38)
theorem k0_off722_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off722 v1 k0_t34 v228 v257 k0_t38) a + S1x1x1x16x128.size a ≤ S2x2x108x128x128.size a := fun v1 k0_t34 v228 v257 k0_hw21 k0_t38 => k0_hw21.2.2.2.2.2.2.2.2.2.2.1.2.2.2.2.2.2.2.2.2.1 k0_t38
theorem k0_off722_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off722 v1 k0_t34 v228 v257 k0_t38) S1x1x1x16x128.size (k0_off722_inb v1 k0_t34 v228 v257 k0_hw21 k0_t38)).PackedRows (EltTy.packing .bf16) := fun v1 k0_t34 v228 v257 k0_hw21 k0_t38 => k0_hw21.2.2.2.2.2.2.2.2.2.2.1.2.2.2.2.2.2.2.2.2.2.1 k0_t38 (k0_off722_inb v1 k0_t34 v228 v257 k0_hw21 k0_t38)
theorem k0_off723_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off723 v1 k0_t34 v228 v257 k0_t38) a + S1x1x1x32x128.size a ≤ S2x2x8x1728x128.size a := fun v1 k0_t34 v228 v257 k0_hw21 k0_t38 => k0_hw21.2.2.2.2.2.2.2.2.2.2.1.2.2.2.2.2.2.2.2.2.2.2.1 k0_t38
theorem k0_off725_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off725 v1 k0_t34 v228 v257 k0_t38) a + S1x1x1x16x128.size a ≤ S2x2x108x128x128.size a := fun v1 k0_t34 v228 v257 k0_hw21 k0_t38 => k0_hw21.2.2.2.2.2.2.2.2.2.2.1.2.2.2.2.2.2.2.2.2.2.2.2.1 k0_t38
theorem k0_off725_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off725 v1 k0_t34 v228 v257 k0_t38) S1x1x1x16x128.size (k0_off725_inb v1 k0_t34 v228 v257 k0_hw21 k0_t38)).PackedRows (EltTy.packing .bf16) := fun v1 k0_t34 v228 v257 k0_hw21 k0_t38 => k0_hw21.2.2.2.2.2.2.2.2.2.2.1.2.2.2.2.2.2.2.2.2.2.2.2.2.1 k0_t38 (k0_off725_inb v1 k0_t34 v228 v257 k0_hw21 k0_t38)
theorem k0_off727_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off727 v1 k0_t34 v228 v257 k0_t38) a + S1x1x1x16x128.size a ≤ S2x2x108x128x128.size a := fun v1 k0_t34 v228 v257 k0_hw21 k0_t38 => k0_hw21.2.2.2.2.2.2.2.2.2.2.1.2.2.2.2.2.2.2.2.2.2.2.2.2.2.1 k0_t38
theorem k0_off727_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off727 v1 k0_t34 v228 v257 k0_t38) S1x1x1x16x128.size (k0_off727_inb v1 k0_t34 v228 v257 k0_hw21 k0_t38)).PackedRows (EltTy.packing .bf16) := fun v1 k0_t34 v228 v257 k0_hw21 k0_t38 => k0_hw21.2.2.2.2.2.2.2.2.2.2.1.2.2.2.2.2.2.2.2.2.2.2.2.2.2.2.1 k0_t38 (k0_off727_inb v1 k0_t34 v228 v257 k0_hw21 k0_t38)
theorem k0_off728_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off728 v1 k0_t34 v228 v257 k0_t38) a + S1x1x1x32x128.size a ≤ S2x2x8x1728x128.size a := fun v1 k0_t34 v228 v257 k0_hw21 k0_t38 => k0_hw21.2.2.2.2.2.2.2.2.2.2.1.2.2.2.2.2.2.2.2.2.2.2.2.2.2.2.2.1 k0_t38
theorem k0_off730_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off730 v1 k0_t34 v228 v257 k0_t38) a + S1x1x1x16x128.size a ≤ S2x2x108x128x128.size a := fun v1 k0_t34 v228 v257 k0_hw21 k0_t38 => k0_hw21.2.2.2.2.2.2.2.2.2.2.1.2.2.2.2.2.2.2.2.2.2.2.2.2.2.2.2.2.1 k0_t38
theorem k0_off730_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off730 v1 k0_t34 v228 v257 k0_t38) S1x1x1x16x128.size (k0_off730_inb v1 k0_t34 v228 v257 k0_hw21 k0_t38)).PackedRows (EltTy.packing .bf16) := fun v1 k0_t34 v228 v257 k0_hw21 k0_t38 => k0_hw21.2.2.2.2.2.2.2.2.2.2.1.2.2.2.2.2.2.2.2.2.2.2.2.2.2.2.2.2.2.1 k0_t38 (k0_off730_inb v1 k0_t34 v228 v257 k0_hw21 k0_t38)
theorem k0_off732_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off732 v1 k0_t34 v228 v257 k0_t38) a + S1x1x1x16x128.size a ≤ S2x2x108x128x128.size a := fun v1 k0_t34 v228 v257 k0_hw21 k0_t38 => k0_hw21.2.2.2.2.2.2.2.2.2.2.1.2.2.2.2.2.2.2.2.2.2.2.2.2.2.2.2.2.2.2.1 k0_t38
theorem k0_off732_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off732 v1 k0_t34 v228 v257 k0_t38) S1x1x1x16x128.size (k0_off732_inb v1 k0_t34 v228 v257 k0_hw21 k0_t38)).PackedRows (EltTy.packing .bf16) := fun v1 k0_t34 v228 v257 k0_hw21 k0_t38 => k0_hw21.2.2.2.2.2.2.2.2.2.2.1.2.2.2.2.2.2.2.2.2.2.2.2.2.2.2.2.2.2.2.2.1 k0_t38 (k0_off732_inb v1 k0_t34 v228 v257 k0_hw21 k0_t38)
theorem k0_off733_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off733 v1 k0_t34 v228 v257 k0_t38) a + S1x1x1x32x128.size a ≤ S2x2x8x1728x128.size a := fun v1 k0_t34 v228 v257 k0_hw21 k0_t38 => k0_hw21.2.2.2.2.2.2.2.2.2.2.1.2.2.2.2.2.2.2.2.2.2.2.2.2.2.2.2.2.2.2.2.2.1 k0_t38
theorem k0_off735_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off735 v1 k0_t34 v228 v257 k0_t38) a + S1x1x1x16x128.size a ≤ S2x2x108x128x128.size a := fun v1 k0_t34 v228 v257 k0_hw21 k0_t38 => k0_hw21.2.2.2.2.2.2.2.2.2.2.1.2.2.2.2.2.2.2.2.2.2.2.2.2.2.2.2.2.2.2.2.2.2.1 k0_t38
theorem k0_off735_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off735 v1 k0_t34 v228 v257 k0_t38) S1x1x1x16x128.size (k0_off735_inb v1 k0_t34 v228 v257 k0_hw21 k0_t38)).PackedRows (EltTy.packing .bf16) := fun v1 k0_t34 v228 v257 k0_hw21 k0_t38 => k0_hw21.2.2.2.2.2.2.2.2.2.2.1.2.2.2.2.2.2.2.2.2.2.2.2.2.2.2.2.2.2.2.2.2.2.2.1 k0_t38 (k0_off735_inb v1 k0_t34 v228 v257 k0_hw21 k0_t38)
theorem k0_off737_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off737 v1 k0_t34 v228 v257 k0_t38) a + S1x1x1x16x128.size a ≤ S2x2x108x128x128.size a := fun v1 k0_t34 v228 v257 k0_hw21 k0_t38 => k0_hw21.2.2.2.2.2.2.2.2.2.2.1.2.2.2.2.2.2.2.2.2.2.2.2.2.2.2.2.2.2.2.2.2.2.2.2.1 k0_t38
theorem k0_off737_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off737 v1 k0_t34 v228 v257 k0_t38) S1x1x1x16x128.size (k0_off737_inb v1 k0_t34 v228 v257 k0_hw21 k0_t38)).PackedRows (EltTy.packing .bf16) := fun v1 k0_t34 v228 v257 k0_hw21 k0_t38 => k0_hw21.2.2.2.2.2.2.2.2.2.2.1.2.2.2.2.2.2.2.2.2.2.2.2.2.2.2.2.2.2.2.2.2.2.2.2.2.1 k0_t38 (k0_off737_inb v1 k0_t34 v228 v257 k0_hw21 k0_t38)
theorem k0_off738_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off738 v1 k0_t34 v228 v257 k0_t38) a + S1x1x1x32x128.size a ≤ S2x2x8x1728x128.size a := fun v1 k0_t34 v228 v257 k0_hw21 k0_t38 => k0_hw21.2.2.2.2.2.2.2.2.2.2.1.2.2.2.2.2.2.2.2.2.2.2.2.2.2.2.2.2.2.2.2.2.2.2.2.2.2.1 k0_t38
theorem k0_off740_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off740 v1 k0_t34 v228 v257 k0_t38) a + S1x1x1x16x128.size a ≤ S2x2x108x128x128.size a := fun v1 k0_t34 v228 v257 k0_hw21 k0_t38 => k0_hw21.2.2.2.2.2.2.2.2.2.2.1.2.2.2.2.2.2.2.2.2.2.2.2.2.2.2.2.2.2.2.2.2.2.2.2.2.2.2.1 k0_t38
theorem k0_off740_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off740 v1 k0_t34 v228 v257 k0_t38) S1x1x1x16x128.size (k0_off740_inb v1 k0_t34 v228 v257 k0_hw21 k0_t38)).PackedRows (EltTy.packing .bf16) := fun v1 k0_t34 v228 v257 k0_hw21 k0_t38 => k0_hw21.2.2.2.2.2.2.2.2.2.2.1.2.2.2.2.2.2.2.2.2.2.2.2.2.2.2.2.2.2.2.2.2.2.2.2.2.2.2.2.1 k0_t38 (k0_off740_inb v1 k0_t34 v228 v257 k0_hw21 k0_t38)
theorem k0_off742_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off742 v1 k0_t34 v228 v257 k0_t38) a + S1x1x1x16x128.size a ≤ S2x2x108x128x128.size a := fun v1 k0_t34 v228 v257 k0_hw21 k0_t38 => k0_hw21.2.2.2.2.2.2.2.2.2.2.1.2.2.2.2.2.2.2.2.2.2.2.2.2.2.2.2.2.2.2.2.2.2.2.2.2.2.2.2.2.1 k0_t38
theorem k0_off742_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off742 v1 k0_t34 v228 v257 k0_t38) S1x1x1x16x128.size (k0_off742_inb v1 k0_t34 v228 v257 k0_hw21 k0_t38)).PackedRows (EltTy.packing .bf16) := fun v1 k0_t34 v228 v257 k0_hw21 k0_t38 => k0_hw21.2.2.2.2.2.2.2.2.2.2.1.2.2.2.2.2.2.2.2.2.2.2.2.2.2.2.2.2.2.2.2.2.2.2.2.2.2.2.2.2.2.1 k0_t38 (k0_off742_inb v1 k0_t34 v228 v257 k0_hw21 k0_t38)
theorem k0_off743_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off743 v1 k0_t34 v228 v257 k0_t38) a + S1x1x1x32x128.size a ≤ S2x2x8x1728x128.size a := fun v1 k0_t34 v228 v257 k0_hw21 k0_t38 => k0_hw21.2.2.2.2.2.2.2.2.2.2.1.2.2.2.2.2.2.2.2.2.2.2.2.2.2.2.2.2.2.2.2.2.2.2.2.2.2.2.2.2.2.2 k0_t38
theorem k0_off745_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off745 v1 k0_t34 v228 v257 k0_t38) a + S1x1x1x16x128.size a ≤ S2x2x108x128x128.size a := fun v1 k0_t34 v228 v257 k0_hw21 k0_t38 => k0_hw21.2.2.2.2.2.2.2.2.2.2.2.1.1 k0_t38
theorem k0_off745_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off745 v1 k0_t34 v228 v257 k0_t38) S1x1x1x16x128.size (k0_off745_inb v1 k0_t34 v228 v257 k0_hw21 k0_t38)).PackedRows (EltTy.packing .bf16) := fun v1 k0_t34 v228 v257 k0_hw21 k0_t38 => k0_hw21.2.2.2.2.2.2.2.2.2.2.2.1.2.1 k0_t38 (k0_off745_inb v1 k0_t34 v228 v257 k0_hw21 k0_t38)
theorem k0_off747_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off747 v1 k0_t34 v228 v257 k0_t38) a + S1x1x1x16x128.size a ≤ S2x2x108x128x128.size a := fun v1 k0_t34 v228 v257 k0_hw21 k0_t38 => k0_hw21.2.2.2.2.2.2.2.2.2.2.2.1.2.2.1 k0_t38
theorem k0_off747_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off747 v1 k0_t34 v228 v257 k0_t38) S1x1x1x16x128.size (k0_off747_inb v1 k0_t34 v228 v257 k0_hw21 k0_t38)).PackedRows (EltTy.packing .bf16) := fun v1 k0_t34 v228 v257 k0_hw21 k0_t38 => k0_hw21.2.2.2.2.2.2.2.2.2.2.2.1.2.2.2.1 k0_t38 (k0_off747_inb v1 k0_t34 v228 v257 k0_hw21 k0_t38)
theorem k0_off748_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off748 v1 k0_t34 v228 v257 k0_t38) a + S1x1x1x32x128.size a ≤ S2x2x8x1728x128.size a := fun v1 k0_t34 v228 v257 k0_hw21 k0_t38 => k0_hw21.2.2.2.2.2.2.2.2.2.2.2.1.2.2.2.2.1 k0_t38
theorem k0_off750_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off750 v1 k0_t34 v228 v257 k0_t38) a + S1x1x1x16x128.size a ≤ S2x2x108x128x128.size a := fun v1 k0_t34 v228 v257 k0_hw21 k0_t38 => k0_hw21.2.2.2.2.2.2.2.2.2.2.2.1.2.2.2.2.2.1 k0_t38
theorem k0_off750_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off750 v1 k0_t34 v228 v257 k0_t38) S1x1x1x16x128.size (k0_off750_inb v1 k0_t34 v228 v257 k0_hw21 k0_t38)).PackedRows (EltTy.packing .bf16) := fun v1 k0_t34 v228 v257 k0_hw21 k0_t38 => k0_hw21.2.2.2.2.2.2.2.2.2.2.2.1.2.2.2.2.2.2.1 k0_t38 (k0_off750_inb v1 k0_t34 v228 v257 k0_hw21 k0_t38)
theorem k0_off752_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off752 v1 k0_t34 v228 v257 k0_t38) a + S1x1x1x16x128.size a ≤ S2x2x108x128x128.size a := fun v1 k0_t34 v228 v257 k0_hw21 k0_t38 => k0_hw21.2.2.2.2.2.2.2.2.2.2.2.1.2.2.2.2.2.2.2.1 k0_t38
theorem k0_off752_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off752 v1 k0_t34 v228 v257 k0_t38) S1x1x1x16x128.size (k0_off752_inb v1 k0_t34 v228 v257 k0_hw21 k0_t38)).PackedRows (EltTy.packing .bf16) := fun v1 k0_t34 v228 v257 k0_hw21 k0_t38 => k0_hw21.2.2.2.2.2.2.2.2.2.2.2.1.2.2.2.2.2.2.2.2.1 k0_t38 (k0_off752_inb v1 k0_t34 v228 v257 k0_hw21 k0_t38)
theorem k0_off753_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off753 v1 k0_t34 v228 v257 k0_t38) a + S1x1x1x32x128.size a ≤ S2x2x8x1728x128.size a := fun v1 k0_t34 v228 v257 k0_hw21 k0_t38 => k0_hw21.2.2.2.2.2.2.2.2.2.2.2.1.2.2.2.2.2.2.2.2.2.1 k0_t38
theorem k0_off755_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off755 v1 k0_t34 v228 v257 k0_t38) a + S1x1x1x16x128.size a ≤ S2x2x108x128x128.size a := fun v1 k0_t34 v228 v257 k0_hw21 k0_t38 => k0_hw21.2.2.2.2.2.2.2.2.2.2.2.1.2.2.2.2.2.2.2.2.2.2.1 k0_t38
theorem k0_off755_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off755 v1 k0_t34 v228 v257 k0_t38) S1x1x1x16x128.size (k0_off755_inb v1 k0_t34 v228 v257 k0_hw21 k0_t38)).PackedRows (EltTy.packing .bf16) := fun v1 k0_t34 v228 v257 k0_hw21 k0_t38 => k0_hw21.2.2.2.2.2.2.2.2.2.2.2.1.2.2.2.2.2.2.2.2.2.2.2.1 k0_t38 (k0_off755_inb v1 k0_t34 v228 v257 k0_hw21 k0_t38)
theorem k0_off757_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off757 v1 k0_t34 v228 v257 k0_t38) a + S1x1x1x16x128.size a ≤ S2x2x108x128x128.size a := fun v1 k0_t34 v228 v257 k0_hw21 k0_t38 => k0_hw21.2.2.2.2.2.2.2.2.2.2.2.1.2.2.2.2.2.2.2.2.2.2.2.2.1 k0_t38
theorem k0_off757_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off757 v1 k0_t34 v228 v257 k0_t38) S1x1x1x16x128.size (k0_off757_inb v1 k0_t34 v228 v257 k0_hw21 k0_t38)).PackedRows (EltTy.packing .bf16) := fun v1 k0_t34 v228 v257 k0_hw21 k0_t38 => k0_hw21.2.2.2.2.2.2.2.2.2.2.2.1.2.2.2.2.2.2.2.2.2.2.2.2.2.1 k0_t38 (k0_off757_inb v1 k0_t34 v228 v257 k0_hw21 k0_t38)
theorem k0_off758_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off758 v1 k0_t34 v228 v257 k0_t38) a + S1x1x1x32x128.size a ≤ S2x2x8x1728x128.size a := fun v1 k0_t34 v228 v257 k0_hw21 k0_t38 => k0_hw21.2.2.2.2.2.2.2.2.2.2.2.1.2.2.2.2.2.2.2.2.2.2.2.2.2.2.1 k0_t38
theorem k0_off760_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off760 v1 k0_t34 v228 v257 k0_t38) a + S1x1x1x16x128.size a ≤ S2x2x108x128x128.size a := fun v1 k0_t34 v228 v257 k0_hw21 k0_t38 => k0_hw21.2.2.2.2.2.2.2.2.2.2.2.1.2.2.2.2.2.2.2.2.2.2.2.2.2.2.2.1 k0_t38
theorem k0_off760_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off760 v1 k0_t34 v228 v257 k0_t38) S1x1x1x16x128.size (k0_off760_inb v1 k0_t34 v228 v257 k0_hw21 k0_t38)).PackedRows (EltTy.packing .bf16) := fun v1 k0_t34 v228 v257 k0_hw21 k0_t38 => k0_hw21.2.2.2.2.2.2.2.2.2.2.2.1.2.2.2.2.2.2.2.2.2.2.2.2.2.2.2.2.1 k0_t38 (k0_off760_inb v1 k0_t34 v228 v257 k0_hw21 k0_t38)
theorem k0_off762_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off762 v1 k0_t34 v228 v257 k0_t38) a + S1x1x1x16x128.size a ≤ S2x2x108x128x128.size a := fun v1 k0_t34 v228 v257 k0_hw21 k0_t38 => k0_hw21.2.2.2.2.2.2.2.2.2.2.2.1.2.2.2.2.2.2.2.2.2.2.2.2.2.2.2.2.2.1 k0_t38
theorem k0_off762_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off762 v1 k0_t34 v228 v257 k0_t38) S1x1x1x16x128.size (k0_off762_inb v1 k0_t34 v228 v257 k0_hw21 k0_t38)).PackedRows (EltTy.packing .bf16) := fun v1 k0_t34 v228 v257 k0_hw21 k0_t38 => k0_hw21.2.2.2.2.2.2.2.2.2.2.2.1.2.2.2.2.2.2.2.2.2.2.2.2.2.2.2.2.2.2.1 k0_t38 (k0_off762_inb v1 k0_t34 v228 v257 k0_hw21 k0_t38)
theorem k0_off763_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off763 v1 k0_t34 v228 v257 k0_t38) a + S1x1x1x32x128.size a ≤ S2x2x8x1728x128.size a := fun v1 k0_t34 v228 v257 k0_hw21 k0_t38 => k0_hw21.2.2.2.2.2.2.2.2.2.2.2.1.2.2.2.2.2.2.2.2.2.2.2.2.2.2.2.2.2.2.2.1 k0_t38
theorem k0_off765_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off765 v1 k0_t34 v228 v257 k0_t38) a + S1x1x1x16x128.size a ≤ S2x2x108x128x128.size a := fun v1 k0_t34 v228 v257 k0_hw21 k0_t38 => k0_hw21.2.2.2.2.2.2.2.2.2.2.2.1.2.2.2.2.2.2.2.2.2.2.2.2.2.2.2.2.2.2.2.2.1 k0_t38
theorem k0_off765_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off765 v1 k0_t34 v228 v257 k0_t38) S1x1x1x16x128.size (k0_off765_inb v1 k0_t34 v228 v257 k0_hw21 k0_t38)).PackedRows (EltTy.packing .bf16) := fun v1 k0_t34 v228 v257 k0_hw21 k0_t38 => k0_hw21.2.2.2.2.2.2.2.2.2.2.2.1.2.2.2.2.2.2.2.2.2.2.2.2.2.2.2.2.2.2.2.2.2.1 k0_t38 (k0_off765_inb v1 k0_t34 v228 v257 k0_hw21 k0_t38)
theorem k0_off767_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off767 v1 k0_t34 v228 v257 k0_t38) a + S1x1x1x16x128.size a ≤ S2x2x108x128x128.size a := fun v1 k0_t34 v228 v257 k0_hw21 k0_t38 => k0_hw21.2.2.2.2.2.2.2.2.2.2.2.1.2.2.2.2.2.2.2.2.2.2.2.2.2.2.2.2.2.2.2.2.2.2.1 k0_t38
theorem k0_off767_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off767 v1 k0_t34 v228 v257 k0_t38) S1x1x1x16x128.size (k0_off767_inb v1 k0_t34 v228 v257 k0_hw21 k0_t38)).PackedRows (EltTy.packing .bf16) := fun v1 k0_t34 v228 v257 k0_hw21 k0_t38 => k0_hw21.2.2.2.2.2.2.2.2.2.2.2.1.2.2.2.2.2.2.2.2.2.2.2.2.2.2.2.2.2.2.2.2.2.2.2.1 k0_t38 (k0_off767_inb v1 k0_t34 v228 v257 k0_hw21 k0_t38)
theorem k0_off768_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off768 v1 k0_t34 v228 v257 k0_t38) a + S1x1x1x32x128.size a ≤ S2x2x8x1728x128.size a := fun v1 k0_t34 v228 v257 k0_hw21 k0_t38 => k0_hw21.2.2.2.2.2.2.2.2.2.2.2.1.2.2.2.2.2.2.2.2.2.2.2.2.2.2.2.2.2.2.2.2.2.2.2.2.1 k0_t38
theorem k0_off770_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off770 v1 k0_t34 v228 v257 k0_t38) a + S1x1x1x16x128.size a ≤ S2x2x108x128x128.size a := fun v1 k0_t34 v228 v257 k0_hw21 k0_t38 => k0_hw21.2.2.2.2.2.2.2.2.2.2.2.1.2.2.2.2.2.2.2.2.2.2.2.2.2.2.2.2.2.2.2.2.2.2.2.2.2.1 k0_t38
theorem k0_off770_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off770 v1 k0_t34 v228 v257 k0_t38) S1x1x1x16x128.size (k0_off770_inb v1 k0_t34 v228 v257 k0_hw21 k0_t38)).PackedRows (EltTy.packing .bf16) := fun v1 k0_t34 v228 v257 k0_hw21 k0_t38 => k0_hw21.2.2.2.2.2.2.2.2.2.2.2.1.2.2.2.2.2.2.2.2.2.2.2.2.2.2.2.2.2.2.2.2.2.2.2.2.2.2.1 k0_t38 (k0_off770_inb v1 k0_t34 v228 v257 k0_hw21 k0_t38)
theorem k0_off772_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off772 v1 k0_t34 v228 v257 k0_t38) a + S1x1x1x16x128.size a ≤ S2x2x108x128x128.size a := fun v1 k0_t34 v228 v257 k0_hw21 k0_t38 => k0_hw21.2.2.2.2.2.2.2.2.2.2.2.1.2.2.2.2.2.2.2.2.2.2.2.2.2.2.2.2.2.2.2.2.2.2.2.2.2.2.2.1 k0_t38
theorem k0_off772_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off772 v1 k0_t34 v228 v257 k0_t38) S1x1x1x16x128.size (k0_off772_inb v1 k0_t34 v228 v257 k0_hw21 k0_t38)).PackedRows (EltTy.packing .bf16) := fun v1 k0_t34 v228 v257 k0_hw21 k0_t38 => k0_hw21.2.2.2.2.2.2.2.2.2.2.2.1.2.2.2.2.2.2.2.2.2.2.2.2.2.2.2.2.2.2.2.2.2.2.2.2.2.2.2.2.1 k0_t38 (k0_off772_inb v1 k0_t34 v228 v257 k0_hw21 k0_t38)
theorem k0_off773_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off773 v1 k0_t34 v228 v257 k0_t38) a + S1x1x1x32x128.size a ≤ S2x2x8x1728x128.size a := fun v1 k0_t34 v228 v257 k0_hw21 k0_t38 => k0_hw21.2.2.2.2.2.2.2.2.2.2.2.1.2.2.2.2.2.2.2.2.2.2.2.2.2.2.2.2.2.2.2.2.2.2.2.2.2.2.2.2.2.1 k0_t38
theorem k0_off775_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off775 v1 k0_t34 v228 v257 k0_t38) a + S1x1x1x16x128.size a ≤ S2x2x108x128x128.size a := fun v1 k0_t34 v228 v257 k0_hw21 k0_t38 => k0_hw21.2.2.2.2.2.2.2.2.2.2.2.1.2.2.2.2.2.2.2.2.2.2.2.2.2.2.2.2.2.2.2.2.2.2.2.2.2.2.2.2.2.2.1 k0_t38
theorem k0_off775_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off775 v1 k0_t34 v228 v257 k0_t38) S1x1x1x16x128.size (k0_off775_inb v1 k0_t34 v228 v257 k0_hw21 k0_t38)).PackedRows (EltTy.packing .bf16) := fun v1 k0_t34 v228 v257 k0_hw21 k0_t38 => k0_hw21.2.2.2.2.2.2.2.2.2.2.2.1.2.2.2.2.2.2.2.2.2.2.2.2.2.2.2.2.2.2.2.2.2.2.2.2.2.2.2.2.2.2.2 k0_t38 (k0_off775_inb v1 k0_t34 v228 v257 k0_hw21 k0_t38)
theorem k0_off777_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off777 v1 k0_t34 v228 v257 k0_t38) a + S1x1x1x16x128.size a ≤ S2x2x108x128x128.size a := fun v1 k0_t34 v228 v257 k0_hw21 k0_t38 => k0_hw21.2.2.2.2.2.2.2.2.2.2.2.2.1.1 k0_t38
theorem k0_off777_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off777 v1 k0_t34 v228 v257 k0_t38) S1x1x1x16x128.size (k0_off777_inb v1 k0_t34 v228 v257 k0_hw21 k0_t38)).PackedRows (EltTy.packing .bf16) := fun v1 k0_t34 v228 v257 k0_hw21 k0_t38 => k0_hw21.2.2.2.2.2.2.2.2.2.2.2.2.1.2.1 k0_t38 (k0_off777_inb v1 k0_t34 v228 v257 k0_hw21 k0_t38)
theorem k0_off778_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off778 v1 k0_t34 v228 v257 k0_t38) a + S1x1x1x32x128.size a ≤ S2x2x8x1728x128.size a := fun v1 k0_t34 v228 v257 k0_hw21 k0_t38 => k0_hw21.2.2.2.2.2.2.2.2.2.2.2.2.1.2.2.1 k0_t38
theorem k0_off780_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off780 v1 k0_t34 v228 v257 k0_t38) a + S1x1x1x16x128.size a ≤ S2x2x108x128x128.size a := fun v1 k0_t34 v228 v257 k0_hw21 k0_t38 => k0_hw21.2.2.2.2.2.2.2.2.2.2.2.2.1.2.2.2.1 k0_t38
theorem k0_off780_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off780 v1 k0_t34 v228 v257 k0_t38) S1x1x1x16x128.size (k0_off780_inb v1 k0_t34 v228 v257 k0_hw21 k0_t38)).PackedRows (EltTy.packing .bf16) := fun v1 k0_t34 v228 v257 k0_hw21 k0_t38 => k0_hw21.2.2.2.2.2.2.2.2.2.2.2.2.1.2.2.2.2.1 k0_t38 (k0_off780_inb v1 k0_t34 v228 v257 k0_hw21 k0_t38)
theorem k0_off782_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off782 v1 k0_t34 v228 v257 k0_t38) a + S1x1x1x16x128.size a ≤ S2x2x108x128x128.size a := fun v1 k0_t34 v228 v257 k0_hw21 k0_t38 => k0_hw21.2.2.2.2.2.2.2.2.2.2.2.2.1.2.2.2.2.2.1 k0_t38
theorem k0_off782_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off782 v1 k0_t34 v228 v257 k0_t38) S1x1x1x16x128.size (k0_off782_inb v1 k0_t34 v228 v257 k0_hw21 k0_t38)).PackedRows (EltTy.packing .bf16) := fun v1 k0_t34 v228 v257 k0_hw21 k0_t38 => k0_hw21.2.2.2.2.2.2.2.2.2.2.2.2.1.2.2.2.2.2.2.1 k0_t38 (k0_off782_inb v1 k0_t34 v228 v257 k0_hw21 k0_t38)
theorem k0_off783_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off783 v1 k0_t34 v228 v257 k0_t38) a + S1x1x1x32x128.size a ≤ S2x2x8x1728x128.size a := fun v1 k0_t34 v228 v257 k0_hw21 k0_t38 => k0_hw21.2.2.2.2.2.2.2.2.2.2.2.2.1.2.2.2.2.2.2.2.1 k0_t38
theorem k0_off785_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off785 v1 k0_t34 v228 v257 k0_t38) a + S1x1x1x16x128.size a ≤ S2x2x108x128x128.size a := fun v1 k0_t34 v228 v257 k0_hw21 k0_t38 => k0_hw21.2.2.2.2.2.2.2.2.2.2.2.2.1.2.2.2.2.2.2.2.2.1 k0_t38
theorem k0_off785_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off785 v1 k0_t34 v228 v257 k0_t38) S1x1x1x16x128.size (k0_off785_inb v1 k0_t34 v228 v257 k0_hw21 k0_t38)).PackedRows (EltTy.packing .bf16) := fun v1 k0_t34 v228 v257 k0_hw21 k0_t38 => k0_hw21.2.2.2.2.2.2.2.2.2.2.2.2.1.2.2.2.2.2.2.2.2.2.1 k0_t38 (k0_off785_inb v1 k0_t34 v228 v257 k0_hw21 k0_t38)
theorem k0_off787_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off787 v1 k0_t34 v228 v257 k0_t38) a + S1x1x1x16x128.size a ≤ S2x2x108x128x128.size a := fun v1 k0_t34 v228 v257 k0_hw21 k0_t38 => k0_hw21.2.2.2.2.2.2.2.2.2.2.2.2.1.2.2.2.2.2.2.2.2.2.2.1 k0_t38
theorem k0_off787_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off787 v1 k0_t34 v228 v257 k0_t38) S1x1x1x16x128.size (k0_off787_inb v1 k0_t34 v228 v257 k0_hw21 k0_t38)).PackedRows (EltTy.packing .bf16) := fun v1 k0_t34 v228 v257 k0_hw21 k0_t38 => k0_hw21.2.2.2.2.2.2.2.2.2.2.2.2.1.2.2.2.2.2.2.2.2.2.2.2.1 k0_t38 (k0_off787_inb v1 k0_t34 v228 v257 k0_hw21 k0_t38)
theorem k0_off788_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off788 v1 k0_t34 v228 v257 k0_t38) a + S1x1x1x32x128.size a ≤ S2x2x8x1728x128.size a := fun v1 k0_t34 v228 v257 k0_hw21 k0_t38 => k0_hw21.2.2.2.2.2.2.2.2.2.2.2.2.1.2.2.2.2.2.2.2.2.2.2.2.2.1 k0_t38
theorem k0_off790_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off790 v1 k0_t34 v228 v257 k0_t38) a + S1x1x1x16x128.size a ≤ S2x2x108x128x128.size a := fun v1 k0_t34 v228 v257 k0_hw21 k0_t38 => k0_hw21.2.2.2.2.2.2.2.2.2.2.2.2.1.2.2.2.2.2.2.2.2.2.2.2.2.2.1 k0_t38
theorem k0_off790_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off790 v1 k0_t34 v228 v257 k0_t38) S1x1x1x16x128.size (k0_off790_inb v1 k0_t34 v228 v257 k0_hw21 k0_t38)).PackedRows (EltTy.packing .bf16) := fun v1 k0_t34 v228 v257 k0_hw21 k0_t38 => k0_hw21.2.2.2.2.2.2.2.2.2.2.2.2.1.2.2.2.2.2.2.2.2.2.2.2.2.2.2.1 k0_t38 (k0_off790_inb v1 k0_t34 v228 v257 k0_hw21 k0_t38)
theorem k0_off792_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off792 v1 k0_t34 v228 v257 k0_t38) a + S1x1x1x16x128.size a ≤ S2x2x108x128x128.size a := fun v1 k0_t34 v228 v257 k0_hw21 k0_t38 => k0_hw21.2.2.2.2.2.2.2.2.2.2.2.2.1.2.2.2.2.2.2.2.2.2.2.2.2.2.2.2.1 k0_t38
theorem k0_off792_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off792 v1 k0_t34 v228 v257 k0_t38) S1x1x1x16x128.size (k0_off792_inb v1 k0_t34 v228 v257 k0_hw21 k0_t38)).PackedRows (EltTy.packing .bf16) := fun v1 k0_t34 v228 v257 k0_hw21 k0_t38 => k0_hw21.2.2.2.2.2.2.2.2.2.2.2.2.1.2.2.2.2.2.2.2.2.2.2.2.2.2.2.2.2.1 k0_t38 (k0_off792_inb v1 k0_t34 v228 v257 k0_hw21 k0_t38)
theorem k0_off793_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off793 v1 k0_t34 v228 v257 k0_t38) a + S1x1x1x32x128.size a ≤ S2x2x8x1728x128.size a := fun v1 k0_t34 v228 v257 k0_hw21 k0_t38 => k0_hw21.2.2.2.2.2.2.2.2.2.2.2.2.1.2.2.2.2.2.2.2.2.2.2.2.2.2.2.2.2.2.1 k0_t38
theorem k0_off795_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off795 v1 k0_t34 v228 v257 k0_t38) a + S1x1x1x16x128.size a ≤ S2x2x108x128x128.size a := fun v1 k0_t34 v228 v257 k0_hw21 k0_t38 => k0_hw21.2.2.2.2.2.2.2.2.2.2.2.2.1.2.2.2.2.2.2.2.2.2.2.2.2.2.2.2.2.2.2.1 k0_t38
theorem k0_off795_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off795 v1 k0_t34 v228 v257 k0_t38) S1x1x1x16x128.size (k0_off795_inb v1 k0_t34 v228 v257 k0_hw21 k0_t38)).PackedRows (EltTy.packing .bf16) := fun v1 k0_t34 v228 v257 k0_hw21 k0_t38 => k0_hw21.2.2.2.2.2.2.2.2.2.2.2.2.1.2.2.2.2.2.2.2.2.2.2.2.2.2.2.2.2.2.2.2.1 k0_t38 (k0_off795_inb v1 k0_t34 v228 v257 k0_hw21 k0_t38)
theorem k0_off797_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off797 v1 k0_t34 v228 v257 k0_t38) a + S1x1x1x16x128.size a ≤ S2x2x108x128x128.size a := fun v1 k0_t34 v228 v257 k0_hw21 k0_t38 => k0_hw21.2.2.2.2.2.2.2.2.2.2.2.2.1.2.2.2.2.2.2.2.2.2.2.2.2.2.2.2.2.2.2.2.2.1 k0_t38
theorem k0_off797_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off797 v1 k0_t34 v228 v257 k0_t38) S1x1x1x16x128.size (k0_off797_inb v1 k0_t34 v228 v257 k0_hw21 k0_t38)).PackedRows (EltTy.packing .bf16) := fun v1 k0_t34 v228 v257 k0_hw21 k0_t38 => k0_hw21.2.2.2.2.2.2.2.2.2.2.2.2.1.2.2.2.2.2.2.2.2.2.2.2.2.2.2.2.2.2.2.2.2.2.1 k0_t38 (k0_off797_inb v1 k0_t34 v228 v257 k0_hw21 k0_t38)
theorem k0_off798_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off798 v1 k0_t34 v228 v257 k0_t38) a + S1x1x1x32x128.size a ≤ S2x2x8x1728x128.size a := fun v1 k0_t34 v228 v257 k0_hw21 k0_t38 => k0_hw21.2.2.2.2.2.2.2.2.2.2.2.2.1.2.2.2.2.2.2.2.2.2.2.2.2.2.2.2.2.2.2.2.2.2.2.1 k0_t38
theorem k0_off800_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off800 v1 k0_t34 v228 v257 k0_t38) a + S1x1x1x16x128.size a ≤ S2x2x108x128x128.size a := fun v1 k0_t34 v228 v257 k0_hw21 k0_t38 => k0_hw21.2.2.2.2.2.2.2.2.2.2.2.2.1.2.2.2.2.2.2.2.2.2.2.2.2.2.2.2.2.2.2.2.2.2.2.2.1 k0_t38
theorem k0_off800_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off800 v1 k0_t34 v228 v257 k0_t38) S1x1x1x16x128.size (k0_off800_inb v1 k0_t34 v228 v257 k0_hw21 k0_t38)).PackedRows (EltTy.packing .bf16) := fun v1 k0_t34 v228 v257 k0_hw21 k0_t38 => k0_hw21.2.2.2.2.2.2.2.2.2.2.2.2.1.2.2.2.2.2.2.2.2.2.2.2.2.2.2.2.2.2.2.2.2.2.2.2.2.1 k0_t38 (k0_off800_inb v1 k0_t34 v228 v257 k0_hw21 k0_t38)
theorem k0_off802_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off802 v1 k0_t34 v228 v257 k0_t38) a + S1x1x1x16x128.size a ≤ S2x2x108x128x128.size a := fun v1 k0_t34 v228 v257 k0_hw21 k0_t38 => k0_hw21.2.2.2.2.2.2.2.2.2.2.2.2.1.2.2.2.2.2.2.2.2.2.2.2.2.2.2.2.2.2.2.2.2.2.2.2.2.2.1 k0_t38
theorem k0_off802_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off802 v1 k0_t34 v228 v257 k0_t38) S1x1x1x16x128.size (k0_off802_inb v1 k0_t34 v228 v257 k0_hw21 k0_t38)).PackedRows (EltTy.packing .bf16) := fun v1 k0_t34 v228 v257 k0_hw21 k0_t38 => k0_hw21.2.2.2.2.2.2.2.2.2.2.2.2.1.2.2.2.2.2.2.2.2.2.2.2.2.2.2.2.2.2.2.2.2.2.2.2.2.2.2.1 k0_t38 (k0_off802_inb v1 k0_t34 v228 v257 k0_hw21 k0_t38)
theorem k0_off803_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off803 v1 k0_t34 v228 v257 k0_t38) a + S1x1x1x32x128.size a ≤ S2x2x8x1728x128.size a := fun v1 k0_t34 v228 v257 k0_hw21 k0_t38 => k0_hw21.2.2.2.2.2.2.2.2.2.2.2.2.1.2.2.2.2.2.2.2.2.2.2.2.2.2.2.2.2.2.2.2.2.2.2.2.2.2.2.2.1 k0_t38
theorem k0_off805_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off805 v1 k0_t34 v228 v257 k0_t38) a + S1x1x1x16x128.size a ≤ S2x2x108x128x128.size a := fun v1 k0_t34 v228 v257 k0_hw21 k0_t38 => k0_hw21.2.2.2.2.2.2.2.2.2.2.2.2.1.2.2.2.2.2.2.2.2.2.2.2.2.2.2.2.2.2.2.2.2.2.2.2.2.2.2.2.2.1 k0_t38
theorem k0_off805_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off805 v1 k0_t34 v228 v257 k0_t38) S1x1x1x16x128.size (k0_off805_inb v1 k0_t34 v228 v257 k0_hw21 k0_t38)).PackedRows (EltTy.packing .bf16) := fun v1 k0_t34 v228 v257 k0_hw21 k0_t38 => k0_hw21.2.2.2.2.2.2.2.2.2.2.2.2.1.2.2.2.2.2.2.2.2.2.2.2.2.2.2.2.2.2.2.2.2.2.2.2.2.2.2.2.2.2.1 k0_t38 (k0_off805_inb v1 k0_t34 v228 v257 k0_hw21 k0_t38)
theorem k0_off807_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off807 v1 k0_t34 v228 v257 k0_t38) a + S1x1x1x16x128.size a ≤ S2x2x108x128x128.size a := fun v1 k0_t34 v228 v257 k0_hw21 k0_t38 => k0_hw21.2.2.2.2.2.2.2.2.2.2.2.2.1.2.2.2.2.2.2.2.2.2.2.2.2.2.2.2.2.2.2.2.2.2.2.2.2.2.2.2.2.2.2.1 k0_t38
theorem k0_off807_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off807 v1 k0_t34 v228 v257 k0_t38) S1x1x1x16x128.size (k0_off807_inb v1 k0_t34 v228 v257 k0_hw21 k0_t38)).PackedRows (EltTy.packing .bf16) := fun v1 k0_t34 v228 v257 k0_hw21 k0_t38 => k0_hw21.2.2.2.2.2.2.2.2.2.2.2.2.1.2.2.2.2.2.2.2.2.2.2.2.2.2.2.2.2.2.2.2.2.2.2.2.2.2.2.2.2.2.2.2 k0_t38 (k0_off807_inb v1 k0_t34 v228 v257 k0_hw21 k0_t38)
theorem k0_off808_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off808 v1 k0_t34 v228 v257 k0_t38) a + S1x1x1x32x128.size a ≤ S2x2x8x1728x128.size a := fun v1 k0_t34 v228 v257 k0_hw21 k0_t38 => k0_hw21.2.2.2.2.2.2.2.2.2.2.2.2.2.1.1 k0_t38
theorem k0_off810_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off810 v1 k0_t34 v228 v257 k0_t38) a + S1x1x1x16x128.size a ≤ S2x2x108x128x128.size a := fun v1 k0_t34 v228 v257 k0_hw21 k0_t38 => k0_hw21.2.2.2.2.2.2.2.2.2.2.2.2.2.1.2.1 k0_t38
theorem k0_off810_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off810 v1 k0_t34 v228 v257 k0_t38) S1x1x1x16x128.size (k0_off810_inb v1 k0_t34 v228 v257 k0_hw21 k0_t38)).PackedRows (EltTy.packing .bf16) := fun v1 k0_t34 v228 v257 k0_hw21 k0_t38 => k0_hw21.2.2.2.2.2.2.2.2.2.2.2.2.2.1.2.2.1 k0_t38 (k0_off810_inb v1 k0_t34 v228 v257 k0_hw21 k0_t38)
theorem k0_off812_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off812 v1 k0_t34 v228 v257 k0_t38) a + S1x1x1x16x128.size a ≤ S2x2x108x128x128.size a := fun v1 k0_t34 v228 v257 k0_hw21 k0_t38 => k0_hw21.2.2.2.2.2.2.2.2.2.2.2.2.2.1.2.2.2.1 k0_t38
theorem k0_off812_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off812 v1 k0_t34 v228 v257 k0_t38) S1x1x1x16x128.size (k0_off812_inb v1 k0_t34 v228 v257 k0_hw21 k0_t38)).PackedRows (EltTy.packing .bf16) := fun v1 k0_t34 v228 v257 k0_hw21 k0_t38 => k0_hw21.2.2.2.2.2.2.2.2.2.2.2.2.2.1.2.2.2.2.1 k0_t38 (k0_off812_inb v1 k0_t34 v228 v257 k0_hw21 k0_t38)
theorem k0_off813_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off813 v1 k0_t34 v228 v257 k0_t38) a + S1x1x1x32x128.size a ≤ S2x2x8x1728x128.size a := fun v1 k0_t34 v228 v257 k0_hw21 k0_t38 => k0_hw21.2.2.2.2.2.2.2.2.2.2.2.2.2.1.2.2.2.2.2.1 k0_t38
theorem k0_off815_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off815 v1 k0_t34 v228 v257 k0_t38) a + S1x1x1x16x128.size a ≤ S2x2x108x128x128.size a := fun v1 k0_t34 v228 v257 k0_hw21 k0_t38 => k0_hw21.2.2.2.2.2.2.2.2.2.2.2.2.2.1.2.2.2.2.2.2.1 k0_t38
theorem k0_off815_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off815 v1 k0_t34 v228 v257 k0_t38) S1x1x1x16x128.size (k0_off815_inb v1 k0_t34 v228 v257 k0_hw21 k0_t38)).PackedRows (EltTy.packing .bf16) := fun v1 k0_t34 v228 v257 k0_hw21 k0_t38 => k0_hw21.2.2.2.2.2.2.2.2.2.2.2.2.2.1.2.2.2.2.2.2.2.1 k0_t38 (k0_off815_inb v1 k0_t34 v228 v257 k0_hw21 k0_t38)
theorem k0_off817_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off817 v1 k0_t34 v228 v257 k0_t38) a + S1x1x1x16x128.size a ≤ S2x2x108x128x128.size a := fun v1 k0_t34 v228 v257 k0_hw21 k0_t38 => k0_hw21.2.2.2.2.2.2.2.2.2.2.2.2.2.1.2.2.2.2.2.2.2.2.1 k0_t38
theorem k0_off817_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off817 v1 k0_t34 v228 v257 k0_t38) S1x1x1x16x128.size (k0_off817_inb v1 k0_t34 v228 v257 k0_hw21 k0_t38)).PackedRows (EltTy.packing .bf16) := fun v1 k0_t34 v228 v257 k0_hw21 k0_t38 => k0_hw21.2.2.2.2.2.2.2.2.2.2.2.2.2.1.2.2.2.2.2.2.2.2.2.1 k0_t38 (k0_off817_inb v1 k0_t34 v228 v257 k0_hw21 k0_t38)
theorem k0_off818_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off818 v1 k0_t34 v228 v257 k0_t38) a + S1x1x1x32x128.size a ≤ S2x2x8x1728x128.size a := fun v1 k0_t34 v228 v257 k0_hw21 k0_t38 => k0_hw21.2.2.2.2.2.2.2.2.2.2.2.2.2.1.2.2.2.2.2.2.2.2.2.2.1 k0_t38
theorem k0_off820_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off820 v1 k0_t34 v228 v257 k0_t38) a + S1x1x1x16x128.size a ≤ S2x2x108x128x128.size a := fun v1 k0_t34 v228 v257 k0_hw21 k0_t38 => k0_hw21.2.2.2.2.2.2.2.2.2.2.2.2.2.1.2.2.2.2.2.2.2.2.2.2.2.1 k0_t38
theorem k0_off820_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off820 v1 k0_t34 v228 v257 k0_t38) S1x1x1x16x128.size (k0_off820_inb v1 k0_t34 v228 v257 k0_hw21 k0_t38)).PackedRows (EltTy.packing .bf16) := fun v1 k0_t34 v228 v257 k0_hw21 k0_t38 => k0_hw21.2.2.2.2.2.2.2.2.2.2.2.2.2.1.2.2.2.2.2.2.2.2.2.2.2.2.1 k0_t38 (k0_off820_inb v1 k0_t34 v228 v257 k0_hw21 k0_t38)
theorem k0_off822_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off822 v1 k0_t34 v228 v257 k0_t38) a + S1x1x1x16x128.size a ≤ S2x2x108x128x128.size a := fun v1 k0_t34 v228 v257 k0_hw21 k0_t38 => k0_hw21.2.2.2.2.2.2.2.2.2.2.2.2.2.1.2.2.2.2.2.2.2.2.2.2.2.2.2.1 k0_t38
theorem k0_off822_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off822 v1 k0_t34 v228 v257 k0_t38) S1x1x1x16x128.size (k0_off822_inb v1 k0_t34 v228 v257 k0_hw21 k0_t38)).PackedRows (EltTy.packing .bf16) := fun v1 k0_t34 v228 v257 k0_hw21 k0_t38 => k0_hw21.2.2.2.2.2.2.2.2.2.2.2.2.2.1.2.2.2.2.2.2.2.2.2.2.2.2.2.2.1 k0_t38 (k0_off822_inb v1 k0_t34 v228 v257 k0_hw21 k0_t38)
theorem k0_off823_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off823 v1 k0_t34 v228 v257 k0_t38) a + S1x1x1x32x128.size a ≤ S2x2x8x1728x128.size a := fun v1 k0_t34 v228 v257 k0_hw21 k0_t38 => k0_hw21.2.2.2.2.2.2.2.2.2.2.2.2.2.1.2.2.2.2.2.2.2.2.2.2.2.2.2.2.2.1 k0_t38
theorem k0_off825_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off825 v1 k0_t34 v228 v257 k0_t38) a + S1x1x1x16x128.size a ≤ S2x2x108x128x128.size a := fun v1 k0_t34 v228 v257 k0_hw21 k0_t38 => k0_hw21.2.2.2.2.2.2.2.2.2.2.2.2.2.1.2.2.2.2.2.2.2.2.2.2.2.2.2.2.2.2.1 k0_t38
theorem k0_off825_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off825 v1 k0_t34 v228 v257 k0_t38) S1x1x1x16x128.size (k0_off825_inb v1 k0_t34 v228 v257 k0_hw21 k0_t38)).PackedRows (EltTy.packing .bf16) := fun v1 k0_t34 v228 v257 k0_hw21 k0_t38 => k0_hw21.2.2.2.2.2.2.2.2.2.2.2.2.2.1.2.2.2.2.2.2.2.2.2.2.2.2.2.2.2.2.2.1 k0_t38 (k0_off825_inb v1 k0_t34 v228 v257 k0_hw21 k0_t38)
theorem k0_off827_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off827 v1 k0_t34 v228 v257 k0_t38) a + S1x1x1x16x128.size a ≤ S2x2x108x128x128.size a := fun v1 k0_t34 v228 v257 k0_hw21 k0_t38 => k0_hw21.2.2.2.2.2.2.2.2.2.2.2.2.2.1.2.2.2.2.2.2.2.2.2.2.2.2.2.2.2.2.2.2.1 k0_t38
theorem k0_off827_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off827 v1 k0_t34 v228 v257 k0_t38) S1x1x1x16x128.size (k0_off827_inb v1 k0_t34 v228 v257 k0_hw21 k0_t38)).PackedRows (EltTy.packing .bf16) := fun v1 k0_t34 v228 v257 k0_hw21 k0_t38 => k0_hw21.2.2.2.2.2.2.2.2.2.2.2.2.2.1.2.2.2.2.2.2.2.2.2.2.2.2.2.2.2.2.2.2.2.1 k0_t38 (k0_off827_inb v1 k0_t34 v228 v257 k0_hw21 k0_t38)
theorem k0_off828_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off828 v1 k0_t34 v228 v257 k0_t38) a + S1x1x1x32x128.size a ≤ S2x2x8x1728x128.size a := fun v1 k0_t34 v228 v257 k0_hw21 k0_t38 => k0_hw21.2.2.2.2.2.2.2.2.2.2.2.2.2.1.2.2.2.2.2.2.2.2.2.2.2.2.2.2.2.2.2.2.2.2.1 k0_t38
theorem k0_off830_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off830 v1 k0_t34 v228 v257 k0_t38) a + S1x1x1x16x128.size a ≤ S2x2x108x128x128.size a := fun v1 k0_t34 v228 v257 k0_hw21 k0_t38 => k0_hw21.2.2.2.2.2.2.2.2.2.2.2.2.2.1.2.2.2.2.2.2.2.2.2.2.2.2.2.2.2.2.2.2.2.2.2.1 k0_t38
theorem k0_off830_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off830 v1 k0_t34 v228 v257 k0_t38) S1x1x1x16x128.size (k0_off830_inb v1 k0_t34 v228 v257 k0_hw21 k0_t38)).PackedRows (EltTy.packing .bf16) := fun v1 k0_t34 v228 v257 k0_hw21 k0_t38 => k0_hw21.2.2.2.2.2.2.2.2.2.2.2.2.2.1.2.2.2.2.2.2.2.2.2.2.2.2.2.2.2.2.2.2.2.2.2.2.1 k0_t38 (k0_off830_inb v1 k0_t34 v228 v257 k0_hw21 k0_t38)
theorem k0_off832_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off832 v1 k0_t34 v228 v257 k0_t38) a + S1x1x1x16x128.size a ≤ S2x2x108x128x128.size a := fun v1 k0_t34 v228 v257 k0_hw21 k0_t38 => k0_hw21.2.2.2.2.2.2.2.2.2.2.2.2.2.1.2.2.2.2.2.2.2.2.2.2.2.2.2.2.2.2.2.2.2.2.2.2.2.1 k0_t38
theorem k0_off832_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off832 v1 k0_t34 v228 v257 k0_t38) S1x1x1x16x128.size (k0_off832_inb v1 k0_t34 v228 v257 k0_hw21 k0_t38)).PackedRows (EltTy.packing .bf16) := fun v1 k0_t34 v228 v257 k0_hw21 k0_t38 => k0_hw21.2.2.2.2.2.2.2.2.2.2.2.2.2.1.2.2.2.2.2.2.2.2.2.2.2.2.2.2.2.2.2.2.2.2.2.2.2.2.1 k0_t38 (k0_off832_inb v1 k0_t34 v228 v257 k0_hw21 k0_t38)
theorem k0_off833_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off833 v1 k0_t34 v228 v257 k0_t38) a + S1x1x1x32x128.size a ≤ S2x2x8x1728x128.size a := fun v1 k0_t34 v228 v257 k0_hw21 k0_t38 => k0_hw21.2.2.2.2.2.2.2.2.2.2.2.2.2.1.2.2.2.2.2.2.2.2.2.2.2.2.2.2.2.2.2.2.2.2.2.2.2.2.2.1 k0_t38
theorem k0_off835_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off835 v1 k0_t34 v228 v257 k0_t38) a + S1x1x1x16x128.size a ≤ S2x2x108x128x128.size a := fun v1 k0_t34 v228 v257 k0_hw21 k0_t38 => k0_hw21.2.2.2.2.2.2.2.2.2.2.2.2.2.1.2.2.2.2.2.2.2.2.2.2.2.2.2.2.2.2.2.2.2.2.2.2.2.2.2.2.1 k0_t38
theorem k0_off835_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off835 v1 k0_t34 v228 v257 k0_t38) S1x1x1x16x128.size (k0_off835_inb v1 k0_t34 v228 v257 k0_hw21 k0_t38)).PackedRows (EltTy.packing .bf16) := fun v1 k0_t34 v228 v257 k0_hw21 k0_t38 => k0_hw21.2.2.2.2.2.2.2.2.2.2.2.2.2.1.2.2.2.2.2.2.2.2.2.2.2.2.2.2.2.2.2.2.2.2.2.2.2.2.2.2.2.1 k0_t38 (k0_off835_inb v1 k0_t34 v228 v257 k0_hw21 k0_t38)
theorem k0_off837_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off837 v1 k0_t34 v228 v257 k0_t38) a + S1x1x1x16x128.size a ≤ S2x2x108x128x128.size a := fun v1 k0_t34 v228 v257 k0_hw21 k0_t38 => k0_hw21.2.2.2.2.2.2.2.2.2.2.2.2.2.1.2.2.2.2.2.2.2.2.2.2.2.2.2.2.2.2.2.2.2.2.2.2.2.2.2.2.2.2.1 k0_t38
theorem k0_off837_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off837 v1 k0_t34 v228 v257 k0_t38) S1x1x1x16x128.size (k0_off837_inb v1 k0_t34 v228 v257 k0_hw21 k0_t38)).PackedRows (EltTy.packing .bf16) := fun v1 k0_t34 v228 v257 k0_hw21 k0_t38 => k0_hw21.2.2.2.2.2.2.2.2.2.2.2.2.2.1.2.2.2.2.2.2.2.2.2.2.2.2.2.2.2.2.2.2.2.2.2.2.2.2.2.2.2.2.2.1 k0_t38 (k0_off837_inb v1 k0_t34 v228 v257 k0_hw21 k0_t38)
theorem k0_off838_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off838 v1 k0_t34 v228 v257 k0_t38) a + S1x1x1x32x128.size a ≤ S2x2x8x1728x128.size a := fun v1 k0_t34 v228 v257 k0_hw21 k0_t38 => k0_hw21.2.2.2.2.2.2.2.2.2.2.2.2.2.1.2.2.2.2.2.2.2.2.2.2.2.2.2.2.2.2.2.2.2.2.2.2.2.2.2.2.2.2.2.2.1 k0_t38
theorem k0_off840_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off840 v1 k0_t34 v228 v257 k0_t38) a + S1x1x1x16x128.size a ≤ S2x2x108x128x128.size a := fun v1 k0_t34 v228 v257 k0_hw21 k0_t38 => k0_hw21.2.2.2.2.2.2.2.2.2.2.2.2.2.1.2.2.2.2.2.2.2.2.2.2.2.2.2.2.2.2.2.2.2.2.2.2.2.2.2.2.2.2.2.2.2 k0_t38
theorem k0_off840_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off840 v1 k0_t34 v228 v257 k0_t38) S1x1x1x16x128.size (k0_off840_inb v1 k0_t34 v228 v257 k0_hw21 k0_t38)).PackedRows (EltTy.packing .bf16) := fun v1 k0_t34 v228 v257 k0_hw21 k0_t38 => k0_hw21.2.2.2.2.2.2.2.2.2.2.2.2.2.2.1.1 k0_t38 (k0_off840_inb v1 k0_t34 v228 v257 k0_hw21 k0_t38)
theorem k0_off842_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off842 v1 k0_t34 v228 v257 k0_t38) a + S1x1x1x16x128.size a ≤ S2x2x108x128x128.size a := fun v1 k0_t34 v228 v257 k0_hw21 k0_t38 => k0_hw21.2.2.2.2.2.2.2.2.2.2.2.2.2.2.1.2.1 k0_t38
theorem k0_off842_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off842 v1 k0_t34 v228 v257 k0_t38) S1x1x1x16x128.size (k0_off842_inb v1 k0_t34 v228 v257 k0_hw21 k0_t38)).PackedRows (EltTy.packing .bf16) := fun v1 k0_t34 v228 v257 k0_hw21 k0_t38 => k0_hw21.2.2.2.2.2.2.2.2.2.2.2.2.2.2.1.2.2.1 k0_t38 (k0_off842_inb v1 k0_t34 v228 v257 k0_hw21 k0_t38)
theorem k0_off843_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off843 v1 k0_t34 v228 v257 k0_t38) a + S1x1x1x32x128.size a ≤ S2x2x8x1728x128.size a := fun v1 k0_t34 v228 v257 k0_hw21 k0_t38 => k0_hw21.2.2.2.2.2.2.2.2.2.2.2.2.2.2.1.2.2.2.1 k0_t38
theorem k0_off845_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off845 v1 k0_t34 v228 v257 k0_t38) a + S1x1x1x16x128.size a ≤ S2x2x108x128x128.size a := fun v1 k0_t34 v228 v257 k0_hw21 k0_t38 => k0_hw21.2.2.2.2.2.2.2.2.2.2.2.2.2.2.1.2.2.2.2.1 k0_t38
theorem k0_off845_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off845 v1 k0_t34 v228 v257 k0_t38) S1x1x1x16x128.size (k0_off845_inb v1 k0_t34 v228 v257 k0_hw21 k0_t38)).PackedRows (EltTy.packing .bf16) := fun v1 k0_t34 v228 v257 k0_hw21 k0_t38 => k0_hw21.2.2.2.2.2.2.2.2.2.2.2.2.2.2.1.2.2.2.2.2.1 k0_t38 (k0_off845_inb v1 k0_t34 v228 v257 k0_hw21 k0_t38)
theorem k0_off847_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off847 v1 k0_t34 v228 v257 k0_t38) a + S1x1x1x16x128.size a ≤ S2x2x108x128x128.size a := fun v1 k0_t34 v228 v257 k0_hw21 k0_t38 => k0_hw21.2.2.2.2.2.2.2.2.2.2.2.2.2.2.1.2.2.2.2.2.2.1 k0_t38
theorem k0_off847_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off847 v1 k0_t34 v228 v257 k0_t38) S1x1x1x16x128.size (k0_off847_inb v1 k0_t34 v228 v257 k0_hw21 k0_t38)).PackedRows (EltTy.packing .bf16) := fun v1 k0_t34 v228 v257 k0_hw21 k0_t38 => k0_hw21.2.2.2.2.2.2.2.2.2.2.2.2.2.2.1.2.2.2.2.2.2.2.1 k0_t38 (k0_off847_inb v1 k0_t34 v228 v257 k0_hw21 k0_t38)
theorem k0_off848_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off848 v1 k0_t34 v228 v257 k0_t38) a + S1x1x1x32x128.size a ≤ S2x2x8x1728x128.size a := fun v1 k0_t34 v228 v257 k0_hw21 k0_t38 => k0_hw21.2.2.2.2.2.2.2.2.2.2.2.2.2.2.1.2.2.2.2.2.2.2.2.1 k0_t38
theorem k0_off850_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off850 v1 k0_t34 v228 v257 k0_t38) a + S1x1x1x16x128.size a ≤ S2x2x108x128x128.size a := fun v1 k0_t34 v228 v257 k0_hw21 k0_t38 => k0_hw21.2.2.2.2.2.2.2.2.2.2.2.2.2.2.1.2.2.2.2.2.2.2.2.2.1 k0_t38
theorem k0_off850_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off850 v1 k0_t34 v228 v257 k0_t38) S1x1x1x16x128.size (k0_off850_inb v1 k0_t34 v228 v257 k0_hw21 k0_t38)).PackedRows (EltTy.packing .bf16) := fun v1 k0_t34 v228 v257 k0_hw21 k0_t38 => k0_hw21.2.2.2.2.2.2.2.2.2.2.2.2.2.2.1.2.2.2.2.2.2.2.2.2.2.1 k0_t38 (k0_off850_inb v1 k0_t34 v228 v257 k0_hw21 k0_t38)
theorem k0_off852_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off852 v1 k0_t34 v228 v257 k0_t38) a + S1x1x1x16x128.size a ≤ S2x2x108x128x128.size a := fun v1 k0_t34 v228 v257 k0_hw21 k0_t38 => k0_hw21.2.2.2.2.2.2.2.2.2.2.2.2.2.2.1.2.2.2.2.2.2.2.2.2.2.2.1 k0_t38
theorem k0_off852_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off852 v1 k0_t34 v228 v257 k0_t38) S1x1x1x16x128.size (k0_off852_inb v1 k0_t34 v228 v257 k0_hw21 k0_t38)).PackedRows (EltTy.packing .bf16) := fun v1 k0_t34 v228 v257 k0_hw21 k0_t38 => k0_hw21.2.2.2.2.2.2.2.2.2.2.2.2.2.2.1.2.2.2.2.2.2.2.2.2.2.2.2.1 k0_t38 (k0_off852_inb v1 k0_t34 v228 v257 k0_hw21 k0_t38)
theorem k0_off853_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off853 v1 k0_t34 v228 v257 k0_t38) a + S1x1x1x32x128.size a ≤ S2x2x8x1728x128.size a := fun v1 k0_t34 v228 v257 k0_hw21 k0_t38 => k0_hw21.2.2.2.2.2.2.2.2.2.2.2.2.2.2.1.2.2.2.2.2.2.2.2.2.2.2.2.2.1 k0_t38
theorem k0_off855_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off855 v1 k0_t34 v228 v257 k0_t38) a + S1x1x1x16x128.size a ≤ S2x2x108x128x128.size a := fun v1 k0_t34 v228 v257 k0_hw21 k0_t38 => k0_hw21.2.2.2.2.2.2.2.2.2.2.2.2.2.2.1.2.2.2.2.2.2.2.2.2.2.2.2.2.2.1 k0_t38
theorem k0_off855_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off855 v1 k0_t34 v228 v257 k0_t38) S1x1x1x16x128.size (k0_off855_inb v1 k0_t34 v228 v257 k0_hw21 k0_t38)).PackedRows (EltTy.packing .bf16) := fun v1 k0_t34 v228 v257 k0_hw21 k0_t38 => k0_hw21.2.2.2.2.2.2.2.2.2.2.2.2.2.2.1.2.2.2.2.2.2.2.2.2.2.2.2.2.2.2.1 k0_t38 (k0_off855_inb v1 k0_t34 v228 v257 k0_hw21 k0_t38)
theorem k0_off857_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off857 v1 k0_t34 v228 v257 k0_t38) a + S1x1x1x16x128.size a ≤ S2x2x108x128x128.size a := fun v1 k0_t34 v228 v257 k0_hw21 k0_t38 => k0_hw21.2.2.2.2.2.2.2.2.2.2.2.2.2.2.1.2.2.2.2.2.2.2.2.2.2.2.2.2.2.2.2.1 k0_t38
theorem k0_off857_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off857 v1 k0_t34 v228 v257 k0_t38) S1x1x1x16x128.size (k0_off857_inb v1 k0_t34 v228 v257 k0_hw21 k0_t38)).PackedRows (EltTy.packing .bf16) := fun v1 k0_t34 v228 v257 k0_hw21 k0_t38 => k0_hw21.2.2.2.2.2.2.2.2.2.2.2.2.2.2.1.2.2.2.2.2.2.2.2.2.2.2.2.2.2.2.2.2.1 k0_t38 (k0_off857_inb v1 k0_t34 v228 v257 k0_hw21 k0_t38)
theorem k0_off858_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off858 v1 k0_t34 v228 v257 k0_t38) a + S1x1x1x32x128.size a ≤ S2x2x8x1728x128.size a := fun v1 k0_t34 v228 v257 k0_hw21 k0_t38 => k0_hw21.2.2.2.2.2.2.2.2.2.2.2.2.2.2.1.2.2.2.2.2.2.2.2.2.2.2.2.2.2.2.2.2.2.1 k0_t38
theorem k0_off860_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off860 v1 k0_t34 v228 v257 k0_t38) a + S1x1x1x16x128.size a ≤ S2x2x108x128x128.size a := fun v1 k0_t34 v228 v257 k0_hw21 k0_t38 => k0_hw21.2.2.2.2.2.2.2.2.2.2.2.2.2.2.1.2.2.2.2.2.2.2.2.2.2.2.2.2.2.2.2.2.2.2.1 k0_t38
theorem k0_off860_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off860 v1 k0_t34 v228 v257 k0_t38) S1x1x1x16x128.size (k0_off860_inb v1 k0_t34 v228 v257 k0_hw21 k0_t38)).PackedRows (EltTy.packing .bf16) := fun v1 k0_t34 v228 v257 k0_hw21 k0_t38 => k0_hw21.2.2.2.2.2.2.2.2.2.2.2.2.2.2.1.2.2.2.2.2.2.2.2.2.2.2.2.2.2.2.2.2.2.2.2.1 k0_t38 (k0_off860_inb v1 k0_t34 v228 v257 k0_hw21 k0_t38)
theorem k0_off862_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off862 v1 k0_t34 v228 v257 k0_t38) a + S1x1x1x16x128.size a ≤ S2x2x108x128x128.size a := fun v1 k0_t34 v228 v257 k0_hw21 k0_t38 => k0_hw21.2.2.2.2.2.2.2.2.2.2.2.2.2.2.1.2.2.2.2.2.2.2.2.2.2.2.2.2.2.2.2.2.2.2.2.2.1 k0_t38
theorem k0_off862_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off862 v1 k0_t34 v228 v257 k0_t38) S1x1x1x16x128.size (k0_off862_inb v1 k0_t34 v228 v257 k0_hw21 k0_t38)).PackedRows (EltTy.packing .bf16) := fun v1 k0_t34 v228 v257 k0_hw21 k0_t38 => k0_hw21.2.2.2.2.2.2.2.2.2.2.2.2.2.2.1.2.2.2.2.2.2.2.2.2.2.2.2.2.2.2.2.2.2.2.2.2.2.1 k0_t38 (k0_off862_inb v1 k0_t34 v228 v257 k0_hw21 k0_t38)
theorem k0_off863_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off863 v1 k0_t34 v228 v257 k0_t38) a + S1x1x1x32x128.size a ≤ S2x2x8x1728x128.size a := fun v1 k0_t34 v228 v257 k0_hw21 k0_t38 => k0_hw21.2.2.2.2.2.2.2.2.2.2.2.2.2.2.1.2.2.2.2.2.2.2.2.2.2.2.2.2.2.2.2.2.2.2.2.2.2.2.1 k0_t38
theorem k0_off865_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off865 v1 k0_t34 v228 v257 k0_t38) a + S1x1x1x16x128.size a ≤ S2x2x108x128x128.size a := fun v1 k0_t34 v228 v257 k0_hw21 k0_t38 => k0_hw21.2.2.2.2.2.2.2.2.2.2.2.2.2.2.1.2.2.2.2.2.2.2.2.2.2.2.2.2.2.2.2.2.2.2.2.2.2.2.2.1 k0_t38
theorem k0_off865_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off865 v1 k0_t34 v228 v257 k0_t38) S1x1x1x16x128.size (k0_off865_inb v1 k0_t34 v228 v257 k0_hw21 k0_t38)).PackedRows (EltTy.packing .bf16) := fun v1 k0_t34 v228 v257 k0_hw21 k0_t38 => k0_hw21.2.2.2.2.2.2.2.2.2.2.2.2.2.2.1.2.2.2.2.2.2.2.2.2.2.2.2.2.2.2.2.2.2.2.2.2.2.2.2.2.1 k0_t38 (k0_off865_inb v1 k0_t34 v228 v257 k0_hw21 k0_t38)
theorem k0_off867_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off867 v1 k0_t34 v228 v257 k0_t38) a + S1x1x1x16x128.size a ≤ S2x2x108x128x128.size a := fun v1 k0_t34 v228 v257 k0_hw21 k0_t38 => k0_hw21.2.2.2.2.2.2.2.2.2.2.2.2.2.2.1.2.2.2.2.2.2.2.2.2.2.2.2.2.2.2.2.2.2.2.2.2.2.2.2.2.2.1 k0_t38
theorem k0_off867_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off867 v1 k0_t34 v228 v257 k0_t38) S1x1x1x16x128.size (k0_off867_inb v1 k0_t34 v228 v257 k0_hw21 k0_t38)).PackedRows (EltTy.packing .bf16) := fun v1 k0_t34 v228 v257 k0_hw21 k0_t38 => k0_hw21.2.2.2.2.2.2.2.2.2.2.2.2.2.2.1.2.2.2.2.2.2.2.2.2.2.2.2.2.2.2.2.2.2.2.2.2.2.2.2.2.2.2.1 k0_t38 (k0_off867_inb v1 k0_t34 v228 v257 k0_hw21 k0_t38)
theorem k0_off868_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off868 v1 k0_t34 v228 v257 k0_t38) a + S1x1x1x32x128.size a ≤ S2x2x8x1728x128.size a := fun v1 k0_t34 v228 v257 k0_hw21 k0_t38 => k0_hw21.2.2.2.2.2.2.2.2.2.2.2.2.2.2.1.2.2.2.2.2.2.2.2.2.2.2.2.2.2.2.2.2.2.2.2.2.2.2.2.2.2.2.2.1 k0_t38
theorem k0_off870_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off870 v1 k0_t34 v228 v257 k0_t38) a + S1x1x1x16x128.size a ≤ S2x2x108x128x128.size a := fun v1 k0_t34 v228 v257 k0_hw21 k0_t38 => k0_hw21.2.2.2.2.2.2.2.2.2.2.2.2.2.2.1.2.2.2.2.2.2.2.2.2.2.2.2.2.2.2.2.2.2.2.2.2.2.2.2.2.2.2.2.2.1 k0_t38
theorem k0_off870_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off870 v1 k0_t34 v228 v257 k0_t38) S1x1x1x16x128.size (k0_off870_inb v1 k0_t34 v228 v257 k0_hw21 k0_t38)).PackedRows (EltTy.packing .bf16) := fun v1 k0_t34 v228 v257 k0_hw21 k0_t38 => k0_hw21.2.2.2.2.2.2.2.2.2.2.2.2.2.2.1.2.2.2.2.2.2.2.2.2.2.2.2.2.2.2.2.2.2.2.2.2.2.2.2.2.2.2.2.2.2.1 k0_t38 (k0_off870_inb v1 k0_t34 v228 v257 k0_hw21 k0_t38)
theorem k0_off872_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off872 v1 k0_t34 v228 v257 k0_t38) a + S1x1x1x16x128.size a ≤ S2x2x108x128x128.size a := fun v1 k0_t34 v228 v257 k0_hw21 k0_t38 => k0_hw21.2.2.2.2.2.2.2.2.2.2.2.2.2.2.1.2.2.2.2.2.2.2.2.2.2.2.2.2.2.2.2.2.2.2.2.2.2.2.2.2.2.2.2.2.2.2 k0_t38
theorem k0_off872_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off872 v1 k0_t34 v228 v257 k0_t38) S1x1x1x16x128.size (k0_off872_inb v1 k0_t34 v228 v257 k0_hw21 k0_t38)).PackedRows (EltTy.packing .bf16) := fun v1 k0_t34 v228 v257 k0_hw21 k0_t38 => k0_hw21.2.2.2.2.2.2.2.2.2.2.2.2.2.2.2.1.1 k0_t38 (k0_off872_inb v1 k0_t34 v228 v257 k0_hw21 k0_t38)
theorem k0_off873_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off873 v1 k0_t34 v228 v257 k0_t38) a + S1x1x1x32x128.size a ≤ S2x2x8x1728x128.size a := fun v1 k0_t34 v228 v257 k0_hw21 k0_t38 => k0_hw21.2.2.2.2.2.2.2.2.2.2.2.2.2.2.2.1.2.1 k0_t38
theorem k0_off875_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off875 v1 k0_t34 v228 v257 k0_t38) a + S1x1x1x16x128.size a ≤ S2x2x108x128x128.size a := fun v1 k0_t34 v228 v257 k0_hw21 k0_t38 => k0_hw21.2.2.2.2.2.2.2.2.2.2.2.2.2.2.2.1.2.2.1 k0_t38
theorem k0_off875_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off875 v1 k0_t34 v228 v257 k0_t38) S1x1x1x16x128.size (k0_off875_inb v1 k0_t34 v228 v257 k0_hw21 k0_t38)).PackedRows (EltTy.packing .bf16) := fun v1 k0_t34 v228 v257 k0_hw21 k0_t38 => k0_hw21.2.2.2.2.2.2.2.2.2.2.2.2.2.2.2.1.2.2.2.1 k0_t38 (k0_off875_inb v1 k0_t34 v228 v257 k0_hw21 k0_t38)
theorem k0_off877_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off877 v1 k0_t34 v228 v257 k0_t38) a + S1x1x1x16x128.size a ≤ S2x2x108x128x128.size a := fun v1 k0_t34 v228 v257 k0_hw21 k0_t38 => k0_hw21.2.2.2.2.2.2.2.2.2.2.2.2.2.2.2.1.2.2.2.2.1 k0_t38
theorem k0_off877_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off877 v1 k0_t34 v228 v257 k0_t38) S1x1x1x16x128.size (k0_off877_inb v1 k0_t34 v228 v257 k0_hw21 k0_t38)).PackedRows (EltTy.packing .bf16) := fun v1 k0_t34 v228 v257 k0_hw21 k0_t38 => k0_hw21.2.2.2.2.2.2.2.2.2.2.2.2.2.2.2.1.2.2.2.2.2.1 k0_t38 (k0_off877_inb v1 k0_t34 v228 v257 k0_hw21 k0_t38)
theorem k0_off878_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off878 v1 k0_t34 v228 v257 k0_t38) a + S1x1x1x32x128.size a ≤ S2x2x8x1728x128.size a := fun v1 k0_t34 v228 v257 k0_hw21 k0_t38 => k0_hw21.2.2.2.2.2.2.2.2.2.2.2.2.2.2.2.1.2.2.2.2.2.2.1 k0_t38
theorem k0_off880_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off880 v1 k0_t34 v228 v257 k0_t38) a + S1x1x1x16x128.size a ≤ S2x2x108x128x128.size a := fun v1 k0_t34 v228 v257 k0_hw21 k0_t38 => k0_hw21.2.2.2.2.2.2.2.2.2.2.2.2.2.2.2.1.2.2.2.2.2.2.2.1 k0_t38
theorem k0_off880_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off880 v1 k0_t34 v228 v257 k0_t38) S1x1x1x16x128.size (k0_off880_inb v1 k0_t34 v228 v257 k0_hw21 k0_t38)).PackedRows (EltTy.packing .bf16) := fun v1 k0_t34 v228 v257 k0_hw21 k0_t38 => k0_hw21.2.2.2.2.2.2.2.2.2.2.2.2.2.2.2.1.2.2.2.2.2.2.2.2.1 k0_t38 (k0_off880_inb v1 k0_t34 v228 v257 k0_hw21 k0_t38)
theorem k0_off882_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off882 v1 k0_t34 v228 v257 k0_t38) a + S1x1x1x16x128.size a ≤ S2x2x108x128x128.size a := fun v1 k0_t34 v228 v257 k0_hw21 k0_t38 => k0_hw21.2.2.2.2.2.2.2.2.2.2.2.2.2.2.2.1.2.2.2.2.2.2.2.2.2.1 k0_t38
theorem k0_off882_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off882 v1 k0_t34 v228 v257 k0_t38) S1x1x1x16x128.size (k0_off882_inb v1 k0_t34 v228 v257 k0_hw21 k0_t38)).PackedRows (EltTy.packing .bf16) := fun v1 k0_t34 v228 v257 k0_hw21 k0_t38 => k0_hw21.2.2.2.2.2.2.2.2.2.2.2.2.2.2.2.1.2.2.2.2.2.2.2.2.2.2.1 k0_t38 (k0_off882_inb v1 k0_t34 v228 v257 k0_hw21 k0_t38)
theorem k0_off883_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off883 v1 k0_t34 v228 v257 k0_t38) a + S1x1x1x32x128.size a ≤ S2x2x8x1728x128.size a := fun v1 k0_t34 v228 v257 k0_hw21 k0_t38 => k0_hw21.2.2.2.2.2.2.2.2.2.2.2.2.2.2.2.1.2.2.2.2.2.2.2.2.2.2.2.1 k0_t38
theorem k0_off885_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off885 v1 k0_t34 v228 v257 k0_t38) a + S1x1x1x16x128.size a ≤ S2x2x108x128x128.size a := fun v1 k0_t34 v228 v257 k0_hw21 k0_t38 => k0_hw21.2.2.2.2.2.2.2.2.2.2.2.2.2.2.2.1.2.2.2.2.2.2.2.2.2.2.2.2.1 k0_t38
theorem k0_off885_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off885 v1 k0_t34 v228 v257 k0_t38) S1x1x1x16x128.size (k0_off885_inb v1 k0_t34 v228 v257 k0_hw21 k0_t38)).PackedRows (EltTy.packing .bf16) := fun v1 k0_t34 v228 v257 k0_hw21 k0_t38 => k0_hw21.2.2.2.2.2.2.2.2.2.2.2.2.2.2.2.1.2.2.2.2.2.2.2.2.2.2.2.2.2.1 k0_t38 (k0_off885_inb v1 k0_t34 v228 v257 k0_hw21 k0_t38)
theorem k0_off887_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off887 v1 k0_t34 v228 v257 k0_t38) a + S1x1x1x16x128.size a ≤ S2x2x108x128x128.size a := fun v1 k0_t34 v228 v257 k0_hw21 k0_t38 => k0_hw21.2.2.2.2.2.2.2.2.2.2.2.2.2.2.2.1.2.2.2.2.2.2.2.2.2.2.2.2.2.2.1 k0_t38
theorem k0_off887_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off887 v1 k0_t34 v228 v257 k0_t38) S1x1x1x16x128.size (k0_off887_inb v1 k0_t34 v228 v257 k0_hw21 k0_t38)).PackedRows (EltTy.packing .bf16) := fun v1 k0_t34 v228 v257 k0_hw21 k0_t38 => k0_hw21.2.2.2.2.2.2.2.2.2.2.2.2.2.2.2.1.2.2.2.2.2.2.2.2.2.2.2.2.2.2.2.1 k0_t38 (k0_off887_inb v1 k0_t34 v228 v257 k0_hw21 k0_t38)
theorem k0_off888_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off888 v1 k0_t34 v228 v257 k0_t38) a + S1x1x1x32x128.size a ≤ S2x2x8x1728x128.size a := fun v1 k0_t34 v228 v257 k0_hw21 k0_t38 => k0_hw21.2.2.2.2.2.2.2.2.2.2.2.2.2.2.2.1.2.2.2.2.2.2.2.2.2.2.2.2.2.2.2.2.1 k0_t38
theorem k0_off890_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off890 v1 k0_t34 v228 v257 k0_t38) a + S1x1x1x16x128.size a ≤ S2x2x108x128x128.size a := fun v1 k0_t34 v228 v257 k0_hw21 k0_t38 => k0_hw21.2.2.2.2.2.2.2.2.2.2.2.2.2.2.2.1.2.2.2.2.2.2.2.2.2.2.2.2.2.2.2.2.2.1 k0_t38
theorem k0_off890_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off890 v1 k0_t34 v228 v257 k0_t38) S1x1x1x16x128.size (k0_off890_inb v1 k0_t34 v228 v257 k0_hw21 k0_t38)).PackedRows (EltTy.packing .bf16) := fun v1 k0_t34 v228 v257 k0_hw21 k0_t38 => k0_hw21.2.2.2.2.2.2.2.2.2.2.2.2.2.2.2.1.2.2.2.2.2.2.2.2.2.2.2.2.2.2.2.2.2.2.1 k0_t38 (k0_off890_inb v1 k0_t34 v228 v257 k0_hw21 k0_t38)
theorem k0_off892_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off892 v1 k0_t34 v228 v257 k0_t38) a + S1x1x1x16x128.size a ≤ S2x2x108x128x128.size a := fun v1 k0_t34 v228 v257 k0_hw21 k0_t38 => k0_hw21.2.2.2.2.2.2.2.2.2.2.2.2.2.2.2.1.2.2.2.2.2.2.2.2.2.2.2.2.2.2.2.2.2.2.2.1 k0_t38
theorem k0_off892_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off892 v1 k0_t34 v228 v257 k0_t38) S1x1x1x16x128.size (k0_off892_inb v1 k0_t34 v228 v257 k0_hw21 k0_t38)).PackedRows (EltTy.packing .bf16) := fun v1 k0_t34 v228 v257 k0_hw21 k0_t38 => k0_hw21.2.2.2.2.2.2.2.2.2.2.2.2.2.2.2.1.2.2.2.2.2.2.2.2.2.2.2.2.2.2.2.2.2.2.2.2.1 k0_t38 (k0_off892_inb v1 k0_t34 v228 v257 k0_hw21 k0_t38)
theorem k0_off893_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off893 v1 k0_t34 v228 v257 k0_t38) a + S1x1x1x32x128.size a ≤ S2x2x8x1728x128.size a := fun v1 k0_t34 v228 v257 k0_hw21 k0_t38 => k0_hw21.2.2.2.2.2.2.2.2.2.2.2.2.2.2.2.1.2.2.2.2.2.2.2.2.2.2.2.2.2.2.2.2.2.2.2.2.2.1 k0_t38
theorem k0_off895_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off895 v1 k0_t34 v228 v257 k0_t38) a + S1x1x1x16x128.size a ≤ S2x2x108x128x128.size a := fun v1 k0_t34 v228 v257 k0_hw21 k0_t38 => k0_hw21.2.2.2.2.2.2.2.2.2.2.2.2.2.2.2.1.2.2.2.2.2.2.2.2.2.2.2.2.2.2.2.2.2.2.2.2.2.2.1 k0_t38
theorem k0_off895_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off895 v1 k0_t34 v228 v257 k0_t38) S1x1x1x16x128.size (k0_off895_inb v1 k0_t34 v228 v257 k0_hw21 k0_t38)).PackedRows (EltTy.packing .bf16) := fun v1 k0_t34 v228 v257 k0_hw21 k0_t38 => k0_hw21.2.2.2.2.2.2.2.2.2.2.2.2.2.2.2.1.2.2.2.2.2.2.2.2.2.2.2.2.2.2.2.2.2.2.2.2.2.2.2.1 k0_t38 (k0_off895_inb v1 k0_t34 v228 v257 k0_hw21 k0_t38)
theorem k0_off897_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off897 v1 k0_t34 v228 v257 k0_t38) a + S1x1x1x16x128.size a ≤ S2x2x108x128x128.size a := fun v1 k0_t34 v228 v257 k0_hw21 k0_t38 => k0_hw21.2.2.2.2.2.2.2.2.2.2.2.2.2.2.2.1.2.2.2.2.2.2.2.2.2.2.2.2.2.2.2.2.2.2.2.2.2.2.2.2.1 k0_t38
theorem k0_off897_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off897 v1 k0_t34 v228 v257 k0_t38) S1x1x1x16x128.size (k0_off897_inb v1 k0_t34 v228 v257 k0_hw21 k0_t38)).PackedRows (EltTy.packing .bf16) := fun v1 k0_t34 v228 v257 k0_hw21 k0_t38 => k0_hw21.2.2.2.2.2.2.2.2.2.2.2.2.2.2.2.1.2.2.2.2.2.2.2.2.2.2.2.2.2.2.2.2.2.2.2.2.2.2.2.2.2.1 k0_t38 (k0_off897_inb v1 k0_t34 v228 v257 k0_hw21 k0_t38)
theorem k0_off898_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off898 v1 k0_t34 v228 v257 k0_t38) a + S1x1x1x32x128.size a ≤ S2x2x8x1728x128.size a := fun v1 k0_t34 v228 v257 k0_hw21 k0_t38 => k0_hw21.2.2.2.2.2.2.2.2.2.2.2.2.2.2.2.1.2.2.2.2.2.2.2.2.2.2.2.2.2.2.2.2.2.2.2.2.2.2.2.2.2.2.1 k0_t38
theorem k0_off900_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off900 v1 k0_t34 v228 v257 k0_t38) a + S1x1x1x16x128.size a ≤ S2x2x108x128x128.size a := fun v1 k0_t34 v228 v257 k0_hw21 k0_t38 => k0_hw21.2.2.2.2.2.2.2.2.2.2.2.2.2.2.2.1.2.2.2.2.2.2.2.2.2.2.2.2.2.2.2.2.2.2.2.2.2.2.2.2.2.2.2.1 k0_t38
theorem k0_off900_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off900 v1 k0_t34 v228 v257 k0_t38) S1x1x1x16x128.size (k0_off900_inb v1 k0_t34 v228 v257 k0_hw21 k0_t38)).PackedRows (EltTy.packing .bf16) := fun v1 k0_t34 v228 v257 k0_hw21 k0_t38 => k0_hw21.2.2.2.2.2.2.2.2.2.2.2.2.2.2.2.1.2.2.2.2.2.2.2.2.2.2.2.2.2.2.2.2.2.2.2.2.2.2.2.2.2.2.2.2.1 k0_t38 (k0_off900_inb v1 k0_t34 v228 v257 k0_hw21 k0_t38)
theorem k0_off902_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off902 v1 k0_t34 v228 v257 k0_t38) a + S1x1x1x16x128.size a ≤ S2x2x108x128x128.size a := fun v1 k0_t34 v228 v257 k0_hw21 k0_t38 => k0_hw21.2.2.2.2.2.2.2.2.2.2.2.2.2.2.2.1.2.2.2.2.2.2.2.2.2.2.2.2.2.2.2.2.2.2.2.2.2.2.2.2.2.2.2.2.2.1 k0_t38
theorem k0_off902_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off902 v1 k0_t34 v228 v257 k0_t38) S1x1x1x16x128.size (k0_off902_inb v1 k0_t34 v228 v257 k0_hw21 k0_t38)).PackedRows (EltTy.packing .bf16) := fun v1 k0_t34 v228 v257 k0_hw21 k0_t38 => k0_hw21.2.2.2.2.2.2.2.2.2.2.2.2.2.2.2.1.2.2.2.2.2.2.2.2.2.2.2.2.2.2.2.2.2.2.2.2.2.2.2.2.2.2.2.2.2.2.1 k0_t38 (k0_off902_inb v1 k0_t34 v228 v257 k0_hw21 k0_t38)
theorem k0_off903_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off903 v1 k0_t34 v228 v257 k0_t38) a + S1x1x1x32x128.size a ≤ S2x2x8x1728x128.size a := fun v1 k0_t34 v228 v257 k0_hw21 k0_t38 => k0_hw21.2.2.2.2.2.2.2.2.2.2.2.2.2.2.2.1.2.2.2.2.2.2.2.2.2.2.2.2.2.2.2.2.2.2.2.2.2.2.2.2.2.2.2.2.2.2.2 k0_t38
theorem k0_off905_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off905 v1 k0_t34 v228 v257 k0_t38) a + S1x1x1x16x128.size a ≤ S2x2x108x128x128.size a := fun v1 k0_t34 v228 v257 k0_hw21 k0_t38 => k0_hw21.2.2.2.2.2.2.2.2.2.2.2.2.2.2.2.2.1.1 k0_t38
theorem k0_off905_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off905 v1 k0_t34 v228 v257 k0_t38) S1x1x1x16x128.size (k0_off905_inb v1 k0_t34 v228 v257 k0_hw21 k0_t38)).PackedRows (EltTy.packing .bf16) := fun v1 k0_t34 v228 v257 k0_hw21 k0_t38 => k0_hw21.2.2.2.2.2.2.2.2.2.2.2.2.2.2.2.2.1.2.1 k0_t38 (k0_off905_inb v1 k0_t34 v228 v257 k0_hw21 k0_t38)
theorem k0_off907_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off907 v1 k0_t34 v228 v257 k0_t38) a + S1x1x1x16x128.size a ≤ S2x2x108x128x128.size a := fun v1 k0_t34 v228 v257 k0_hw21 k0_t38 => k0_hw21.2.2.2.2.2.2.2.2.2.2.2.2.2.2.2.2.1.2.2.1 k0_t38
theorem k0_off907_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off907 v1 k0_t34 v228 v257 k0_t38) S1x1x1x16x128.size (k0_off907_inb v1 k0_t34 v228 v257 k0_hw21 k0_t38)).PackedRows (EltTy.packing .bf16) := fun v1 k0_t34 v228 v257 k0_hw21 k0_t38 => k0_hw21.2.2.2.2.2.2.2.2.2.2.2.2.2.2.2.2.1.2.2.2.1 k0_t38 (k0_off907_inb v1 k0_t34 v228 v257 k0_hw21 k0_t38)
theorem k0_off908_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off908 v1 k0_t34 v228 v257 k0_t38) a + S1x1x1x32x128.size a ≤ S2x2x8x1728x128.size a := fun v1 k0_t34 v228 v257 k0_hw21 k0_t38 => k0_hw21.2.2.2.2.2.2.2.2.2.2.2.2.2.2.2.2.1.2.2.2.2.1 k0_t38
theorem k0_off910_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off910 v1 k0_t34 v228 v257 k0_t38) a + S1x1x1x16x128.size a ≤ S2x2x108x128x128.size a := fun v1 k0_t34 v228 v257 k0_hw21 k0_t38 => k0_hw21.2.2.2.2.2.2.2.2.2.2.2.2.2.2.2.2.1.2.2.2.2.2.1 k0_t38
theorem k0_off910_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off910 v1 k0_t34 v228 v257 k0_t38) S1x1x1x16x128.size (k0_off910_inb v1 k0_t34 v228 v257 k0_hw21 k0_t38)).PackedRows (EltTy.packing .bf16) := fun v1 k0_t34 v228 v257 k0_hw21 k0_t38 => k0_hw21.2.2.2.2.2.2.2.2.2.2.2.2.2.2.2.2.1.2.2.2.2.2.2.1 k0_t38 (k0_off910_inb v1 k0_t34 v228 v257 k0_hw21 k0_t38)
theorem k0_off912_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off912 v1 k0_t34 v228 v257 k0_t38) a + S1x1x1x16x128.size a ≤ S2x2x108x128x128.size a := fun v1 k0_t34 v228 v257 k0_hw21 k0_t38 => k0_hw21.2.2.2.2.2.2.2.2.2.2.2.2.2.2.2.2.1.2.2.2.2.2.2.2.1 k0_t38
theorem k0_off912_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off912 v1 k0_t34 v228 v257 k0_t38) S1x1x1x16x128.size (k0_off912_inb v1 k0_t34 v228 v257 k0_hw21 k0_t38)).PackedRows (EltTy.packing .bf16) := fun v1 k0_t34 v228 v257 k0_hw21 k0_t38 => k0_hw21.2.2.2.2.2.2.2.2.2.2.2.2.2.2.2.2.1.2.2.2.2.2.2.2.2.1 k0_t38 (k0_off912_inb v1 k0_t34 v228 v257 k0_hw21 k0_t38)
theorem k0_off913_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off913 v1 k0_t34 v228 v257 k0_t38) a + S1x1x1x32x128.size a ≤ S2x2x8x1728x128.size a := fun v1 k0_t34 v228 v257 k0_hw21 k0_t38 => k0_hw21.2.2.2.2.2.2.2.2.2.2.2.2.2.2.2.2.1.2.2.2.2.2.2.2.2.2.1 k0_t38
theorem k0_off915_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off915 v1 k0_t34 v228 v257 k0_t38) a + S1x1x1x16x128.size a ≤ S2x2x108x128x128.size a := fun v1 k0_t34 v228 v257 k0_hw21 k0_t38 => k0_hw21.2.2.2.2.2.2.2.2.2.2.2.2.2.2.2.2.1.2.2.2.2.2.2.2.2.2.2.1 k0_t38
theorem k0_off915_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off915 v1 k0_t34 v228 v257 k0_t38) S1x1x1x16x128.size (k0_off915_inb v1 k0_t34 v228 v257 k0_hw21 k0_t38)).PackedRows (EltTy.packing .bf16) := fun v1 k0_t34 v228 v257 k0_hw21 k0_t38 => k0_hw21.2.2.2.2.2.2.2.2.2.2.2.2.2.2.2.2.1.2.2.2.2.2.2.2.2.2.2.2.1 k0_t38 (k0_off915_inb v1 k0_t34 v228 v257 k0_hw21 k0_t38)
theorem k0_off917_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off917 v1 k0_t34 v228 v257 k0_t38) a + S1x1x1x16x128.size a ≤ S2x2x108x128x128.size a := fun v1 k0_t34 v228 v257 k0_hw21 k0_t38 => k0_hw21.2.2.2.2.2.2.2.2.2.2.2.2.2.2.2.2.1.2.2.2.2.2.2.2.2.2.2.2.2.1 k0_t38
theorem k0_off917_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off917 v1 k0_t34 v228 v257 k0_t38) S1x1x1x16x128.size (k0_off917_inb v1 k0_t34 v228 v257 k0_hw21 k0_t38)).PackedRows (EltTy.packing .bf16) := fun v1 k0_t34 v228 v257 k0_hw21 k0_t38 => k0_hw21.2.2.2.2.2.2.2.2.2.2.2.2.2.2.2.2.1.2.2.2.2.2.2.2.2.2.2.2.2.2.1 k0_t38 (k0_off917_inb v1 k0_t34 v228 v257 k0_hw21 k0_t38)
theorem k0_off918_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off918 v1 k0_t34 v228 v257 k0_t38) a + S1x1x1x32x128.size a ≤ S2x2x8x1728x128.size a := fun v1 k0_t34 v228 v257 k0_hw21 k0_t38 => k0_hw21.2.2.2.2.2.2.2.2.2.2.2.2.2.2.2.2.1.2.2.2.2.2.2.2.2.2.2.2.2.2.2.1 k0_t38
theorem k0_off920_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off920 v1 k0_t34 v228 v257 k0_t38) a + S1x1x1x16x128.size a ≤ S2x2x108x128x128.size a := fun v1 k0_t34 v228 v257 k0_hw21 k0_t38 => k0_hw21.2.2.2.2.2.2.2.2.2.2.2.2.2.2.2.2.1.2.2.2.2.2.2.2.2.2.2.2.2.2.2.2.1 k0_t38
theorem k0_off920_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off920 v1 k0_t34 v228 v257 k0_t38) S1x1x1x16x128.size (k0_off920_inb v1 k0_t34 v228 v257 k0_hw21 k0_t38)).PackedRows (EltTy.packing .bf16) := fun v1 k0_t34 v228 v257 k0_hw21 k0_t38 => k0_hw21.2.2.2.2.2.2.2.2.2.2.2.2.2.2.2.2.1.2.2.2.2.2.2.2.2.2.2.2.2.2.2.2.2.1 k0_t38 (k0_off920_inb v1 k0_t34 v228 v257 k0_hw21 k0_t38)
theorem k0_off922_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off922 v1 k0_t34 v228 v257 k0_t38) a + S1x1x1x16x128.size a ≤ S2x2x108x128x128.size a := fun v1 k0_t34 v228 v257 k0_hw21 k0_t38 => k0_hw21.2.2.2.2.2.2.2.2.2.2.2.2.2.2.2.2.1.2.2.2.2.2.2.2.2.2.2.2.2.2.2.2.2.2.1 k0_t38
theorem k0_off922_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off922 v1 k0_t34 v228 v257 k0_t38) S1x1x1x16x128.size (k0_off922_inb v1 k0_t34 v228 v257 k0_hw21 k0_t38)).PackedRows (EltTy.packing .bf16) := fun v1 k0_t34 v228 v257 k0_hw21 k0_t38 => k0_hw21.2.2.2.2.2.2.2.2.2.2.2.2.2.2.2.2.1.2.2.2.2.2.2.2.2.2.2.2.2.2.2.2.2.2.2.1 k0_t38 (k0_off922_inb v1 k0_t34 v228 v257 k0_hw21 k0_t38)
theorem k0_off923_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off923 v1 k0_t34 v228 v257 k0_t38) a + S1x1x1x32x128.size a ≤ S2x2x8x1728x128.size a := fun v1 k0_t34 v228 v257 k0_hw21 k0_t38 => k0_hw21.2.2.2.2.2.2.2.2.2.2.2.2.2.2.2.2.1.2.2.2.2.2.2.2.2.2.2.2.2.2.2.2.2.2.2.2.1 k0_t38
theorem k0_off925_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off925 v1 k0_t34 v228 v257 k0_t38) a + S1x1x1x16x128.size a ≤ S2x2x108x128x128.size a := fun v1 k0_t34 v228 v257 k0_hw21 k0_t38 => k0_hw21.2.2.2.2.2.2.2.2.2.2.2.2.2.2.2.2.1.2.2.2.2.2.2.2.2.2.2.2.2.2.2.2.2.2.2.2.2.1 k0_t38
theorem k0_off925_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off925 v1 k0_t34 v228 v257 k0_t38) S1x1x1x16x128.size (k0_off925_inb v1 k0_t34 v228 v257 k0_hw21 k0_t38)).PackedRows (EltTy.packing .bf16) := fun v1 k0_t34 v228 v257 k0_hw21 k0_t38 => k0_hw21.2.2.2.2.2.2.2.2.2.2.2.2.2.2.2.2.1.2.2.2.2.2.2.2.2.2.2.2.2.2.2.2.2.2.2.2.2.2.1 k0_t38 (k0_off925_inb v1 k0_t34 v228 v257 k0_hw21 k0_t38)
theorem k0_off927_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off927 v1 k0_t34 v228 v257 k0_t38) a + S1x1x1x16x128.size a ≤ S2x2x108x128x128.size a := fun v1 k0_t34 v228 v257 k0_hw21 k0_t38 => k0_hw21.2.2.2.2.2.2.2.2.2.2.2.2.2.2.2.2.1.2.2.2.2.2.2.2.2.2.2.2.2.2.2.2.2.2.2.2.2.2.2.1 k0_t38
theorem k0_off927_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off927 v1 k0_t34 v228 v257 k0_t38) S1x1x1x16x128.size (k0_off927_inb v1 k0_t34 v228 v257 k0_hw21 k0_t38)).PackedRows (EltTy.packing .bf16) := fun v1 k0_t34 v228 v257 k0_hw21 k0_t38 => k0_hw21.2.2.2.2.2.2.2.2.2.2.2.2.2.2.2.2.1.2.2.2.2.2.2.2.2.2.2.2.2.2.2.2.2.2.2.2.2.2.2.2.1 k0_t38 (k0_off927_inb v1 k0_t34 v228 v257 k0_hw21 k0_t38)
theorem k0_off928_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off928 v1 k0_t34 v228 v257 k0_t38) a + S1x1x1x32x128.size a ≤ S2x2x8x1728x128.size a := fun v1 k0_t34 v228 v257 k0_hw21 k0_t38 => k0_hw21.2.2.2.2.2.2.2.2.2.2.2.2.2.2.2.2.1.2.2.2.2.2.2.2.2.2.2.2.2.2.2.2.2.2.2.2.2.2.2.2.2.1 k0_t38
theorem k0_off930_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off930 v1 k0_t34 v228 v257 k0_t38) a + S1x1x1x16x128.size a ≤ S2x2x108x128x128.size a := fun v1 k0_t34 v228 v257 k0_hw21 k0_t38 => k0_hw21.2.2.2.2.2.2.2.2.2.2.2.2.2.2.2.2.1.2.2.2.2.2.2.2.2.2.2.2.2.2.2.2.2.2.2.2.2.2.2.2.2.2.1 k0_t38
theorem k0_off930_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off930 v1 k0_t34 v228 v257 k0_t38) S1x1x1x16x128.size (k0_off930_inb v1 k0_t34 v228 v257 k0_hw21 k0_t38)).PackedRows (EltTy.packing .bf16) := fun v1 k0_t34 v228 v257 k0_hw21 k0_t38 => k0_hw21.2.2.2.2.2.2.2.2.2.2.2.2.2.2.2.2.1.2.2.2.2.2.2.2.2.2.2.2.2.2.2.2.2.2.2.2.2.2.2.2.2.2.2.1 k0_t38 (k0_off930_inb v1 k0_t34 v228 v257 k0_hw21 k0_t38)
theorem k0_off932_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off932 v1 k0_t34 v228 v257 k0_t38) a + S1x1x1x16x128.size a ≤ S2x2x108x128x128.size a := fun v1 k0_t34 v228 v257 k0_hw21 k0_t38 => k0_hw21.2.2.2.2.2.2.2.2.2.2.2.2.2.2.2.2.1.2.2.2.2.2.2.2.2.2.2.2.2.2.2.2.2.2.2.2.2.2.2.2.2.2.2.2.1 k0_t38
theorem k0_off932_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off932 v1 k0_t34 v228 v257 k0_t38) S1x1x1x16x128.size (k0_off932_inb v1 k0_t34 v228 v257 k0_hw21 k0_t38)).PackedRows (EltTy.packing .bf16) := fun v1 k0_t34 v228 v257 k0_hw21 k0_t38 => k0_hw21.2.2.2.2.2.2.2.2.2.2.2.2.2.2.2.2.1.2.2.2.2.2.2.2.2.2.2.2.2.2.2.2.2.2.2.2.2.2.2.2.2.2.2.2.2.1 k0_t38 (k0_off932_inb v1 k0_t34 v228 v257 k0_hw21 k0_t38)
theorem k0_off933_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off933 v1 k0_t34 v228 v257 k0_t38) a + S1x1x1x32x128.size a ≤ S2x2x8x1728x128.size a := fun v1 k0_t34 v228 v257 k0_hw21 k0_t38 => k0_hw21.2.2.2.2.2.2.2.2.2.2.2.2.2.2.2.2.1.2.2.2.2.2.2.2.2.2.2.2.2.2.2.2.2.2.2.2.2.2.2.2.2.2.2.2.2.2.1 k0_t38
theorem k0_off935_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off935 v1 k0_t34 v228 v257 k0_t38) a + S1x1x1x16x128.size a ≤ S2x2x108x128x128.size a := fun v1 k0_t34 v228 v257 k0_hw21 k0_t38 => k0_hw21.2.2.2.2.2.2.2.2.2.2.2.2.2.2.2.2.1.2.2.2.2.2.2.2.2.2.2.2.2.2.2.2.2.2.2.2.2.2.2.2.2.2.2.2.2.2.2.1 k0_t38
theorem k0_off935_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off935 v1 k0_t34 v228 v257 k0_t38) S1x1x1x16x128.size (k0_off935_inb v1 k0_t34 v228 v257 k0_hw21 k0_t38)).PackedRows (EltTy.packing .bf16) := fun v1 k0_t34 v228 v257 k0_hw21 k0_t38 => k0_hw21.2.2.2.2.2.2.2.2.2.2.2.2.2.2.2.2.1.2.2.2.2.2.2.2.2.2.2.2.2.2.2.2.2.2.2.2.2.2.2.2.2.2.2.2.2.2.2.2 k0_t38 (k0_off935_inb v1 k0_t34 v228 v257 k0_hw21 k0_t38)
theorem k0_off937_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off937 v1 k0_t34 v228 v257 k0_t38) a + S1x1x1x16x128.size a ≤ S2x2x108x128x128.size a := fun v1 k0_t34 v228 v257 k0_hw21 k0_t38 => k0_hw21.2.2.2.2.2.2.2.2.2.2.2.2.2.2.2.2.2.1.1 k0_t38
theorem k0_off937_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off937 v1 k0_t34 v228 v257 k0_t38) S1x1x1x16x128.size (k0_off937_inb v1 k0_t34 v228 v257 k0_hw21 k0_t38)).PackedRows (EltTy.packing .bf16) := fun v1 k0_t34 v228 v257 k0_hw21 k0_t38 => k0_hw21.2.2.2.2.2.2.2.2.2.2.2.2.2.2.2.2.2.1.2.1 k0_t38 (k0_off937_inb v1 k0_t34 v228 v257 k0_hw21 k0_t38)
theorem k0_off938_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off938 v1 k0_t34 v228 v257 k0_t38) a + S1x1x1x32x128.size a ≤ S2x2x8x1728x128.size a := fun v1 k0_t34 v228 v257 k0_hw21 k0_t38 => k0_hw21.2.2.2.2.2.2.2.2.2.2.2.2.2.2.2.2.2.1.2.2.1 k0_t38
theorem k0_off940_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off940 v1 k0_t34 v228 v257 k0_t38) a + S1x1x1x16x128.size a ≤ S2x2x108x128x128.size a := fun v1 k0_t34 v228 v257 k0_hw21 k0_t38 => k0_hw21.2.2.2.2.2.2.2.2.2.2.2.2.2.2.2.2.2.1.2.2.2.1 k0_t38
theorem k0_off940_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off940 v1 k0_t34 v228 v257 k0_t38) S1x1x1x16x128.size (k0_off940_inb v1 k0_t34 v228 v257 k0_hw21 k0_t38)).PackedRows (EltTy.packing .bf16) := fun v1 k0_t34 v228 v257 k0_hw21 k0_t38 => k0_hw21.2.2.2.2.2.2.2.2.2.2.2.2.2.2.2.2.2.1.2.2.2.2.1 k0_t38 (k0_off940_inb v1 k0_t34 v228 v257 k0_hw21 k0_t38)
theorem k0_off942_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off942 v1 k0_t34 v228 v257 k0_t38) a + S1x1x1x16x128.size a ≤ S2x2x108x128x128.size a := fun v1 k0_t34 v228 v257 k0_hw21 k0_t38 => k0_hw21.2.2.2.2.2.2.2.2.2.2.2.2.2.2.2.2.2.1.2.2.2.2.2.1 k0_t38
theorem k0_off942_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off942 v1 k0_t34 v228 v257 k0_t38) S1x1x1x16x128.size (k0_off942_inb v1 k0_t34 v228 v257 k0_hw21 k0_t38)).PackedRows (EltTy.packing .bf16) := fun v1 k0_t34 v228 v257 k0_hw21 k0_t38 => k0_hw21.2.2.2.2.2.2.2.2.2.2.2.2.2.2.2.2.2.1.2.2.2.2.2.2.1 k0_t38 (k0_off942_inb v1 k0_t34 v228 v257 k0_hw21 k0_t38)
theorem k0_off943_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off943 v1 k0_t34 v228 v257 k0_t38) a + S1x1x1x32x128.size a ≤ S2x2x8x1728x128.size a := fun v1 k0_t34 v228 v257 k0_hw21 k0_t38 => k0_hw21.2.2.2.2.2.2.2.2.2.2.2.2.2.2.2.2.2.1.2.2.2.2.2.2.2.1 k0_t38
theorem k0_off945_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off945 v1 k0_t34 v228 v257 k0_t38) a + S1x1x1x16x128.size a ≤ S2x2x108x128x128.size a := fun v1 k0_t34 v228 v257 k0_hw21 k0_t38 => k0_hw21.2.2.2.2.2.2.2.2.2.2.2.2.2.2.2.2.2.1.2.2.2.2.2.2.2.2.1 k0_t38
theorem k0_off945_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off945 v1 k0_t34 v228 v257 k0_t38) S1x1x1x16x128.size (k0_off945_inb v1 k0_t34 v228 v257 k0_hw21 k0_t38)).PackedRows (EltTy.packing .bf16) := fun v1 k0_t34 v228 v257 k0_hw21 k0_t38 => k0_hw21.2.2.2.2.2.2.2.2.2.2.2.2.2.2.2.2.2.1.2.2.2.2.2.2.2.2.2.1 k0_t38 (k0_off945_inb v1 k0_t34 v228 v257 k0_hw21 k0_t38)
theorem k0_off947_inb : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), ∀ a, (k0_off947 v1 k0_t34 v228 v257 k0_t38) a + S1x1x1x16x128.size a ≤ S2x2x108x128x128.size a := fun v1 k0_t34 v228 v257 k0_hw21 k0_t38 => k0_hw21.2.2.2.2.2.2.2.2.2.2.2.2.2.2.2.2.2.1.2.2.2.2.2.2.2.2.2.2.1 k0_t38
theorem k0_off947_packedbf16 : ∀ (v1 : BitVec 32) (k0_t34 : Fin (k0_t34_loop v1).trips) (v228 : BitVec 32) (v257 : BitVec 32) (k0_hw21 : k0_chk21 v1 k0_t34 v228 v257) (k0_t38 : Fin (k0_t38_loop v228 v257).trips), (Rect.unit (s := S2x2x108x128x128) (k0_off947 v1 k0_t34 v228 v257 k0_t38) S1x1x1x16x128.size (k0_off947_inb v1 k0_t34 v228 v257 k0_hw21 k0_t38)).PackedRows (EltTy.packing .bf16) := fun v1 k0_t34 v228 v257 k0_hw21 k0_t38 => k0_hw21.2.2.2.2.2.2.2.2.2.2.2.2.2.2.2.2.2.1.2.2.2.2.2.2.2.2.2.2.2.1 k0_t38 (k0_off947_inb v1 k0_t34 v228 v257 k0_hw21 k0_t38)
theorem k0_t39_ok : ∀ (v1 : BitVec 32) (k0_t34 : Fin (k0_t34_loop v1).trips) (v228 : BitVec 32) (v257 : BitVec 32) (k0_hw21 : k0_chk21 v1 k0_t34 v228 v257), (k0_t39_loop v228 v257).OK := fun v1 k0_t34 v228 v257 k0_hw21 => k0_hw21.2.2.2.2.2.2.2.2.2.2.2.2.2.2.2.2.2.1.2.2.2.2.2.2.2.2.2.2.2.2.1
theorem k0_mult8_dvd : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), 16 ∣ (k0_mult8 v228 v257 k0_t39).toNat := fun v1 k0_t34 v228 v257 k0_hw21 k0_t39 => k0_hw21.2.2.2.2.2.2.2.2.2.2.2.2.2.2.2.2.2.1.2.2.2.2.2.2.2.2.2.2.2.2.2.1 k0_t39
theorem k0_off948_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off948 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.1.2.2.2.2.2.2.2.2.2.2.2.2.2.2.1 k0_t39
theorem k0_off948_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off948 v1 k0_t34 v228 v257 k0_t39) S1x1x1x16x128.size (k0_off948_inb v1 k0_t34 v228 v257 k0_hw21 k0_t39)).PackedRows (EltTy.packing .bf16) := fun v1 k0_t34 v228 v257 k0_hw21 k0_t39 => k0_hw21.2.2.2.2.2.2.2.2.2.2.2.2.2.2.2.2.2.1.2.2.2.2.2.2.2.2.2.2.2.2.2.2.2.1 k0_t39 (k0_off948_inb v1 k0_t34 v228 v257 k0_hw21 k0_t39)
theorem k0_off949_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off949 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.1.2.2.2.2.2.2.2.2.2.2.2.2.2.2.2.2.1 k0_t39
theorem k0_off949_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off949 v1 k0_t34 v228 v257 k0_t39) S1x1x1x16x128.size (k0_off949_inb v1 k0_t34 v228 v257 k0_hw21 k0_t39)).PackedRows (EltTy.packing .bf16) := fun v1 k0_t34 v228 v257 k0_hw21 k0_t39 => k0_hw21.2.2.2.2.2.2.2.2.2.2.2.2.2.2.2.2.2.1.2.2.2.2.2.2.2.2.2.2.2.2.2.2.2.2.2.1 k0_t39 (k0_off949_inb v1 k0_t34 v228 v257 k0_hw21 k0_t39)
theorem k0_off950_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off950 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.1.2.2.2.2.2.2.2.2.2.2.2.2.2.2.2.2.2.2.1 k0_t39
theorem k0_off950_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off950 v1 k0_t34 v228 v257 k0_t39) S1x1x1x16x128.size (k0_off950_inb v1 k0_t34 v228 v257 k0_hw21 k0_t39)).PackedRows (EltTy.packing .bf16) := fun v1 k0_t34 v228 v257 k0_hw21 k0_t39 => k0_hw21.2.2.2.2.2.2.2.2.2.2.2.2.2.2.2.2.2.1.2.2.2.2.2.2.2.2.2.2.2.2.2.2.2.2.2.2.2.1 k0_t39 (k0_off950_inb v1 k0_t34 v228 v257 k0_hw21 k0_t39)
theorem k0_off951_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off951 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.1.2.2.2.2.2.2.2.2.2.2.2.2.2.2.2.2.2.2.2.2.1 k0_t39
theorem k0_off951_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off951 v1 k0_t34 v228 v257 k0_t39) S1x1x1x16x128.size (k0_off951_inb v1 k0_t34 v228 v257 k0_hw21 k0_t39)).PackedRows (EltTy.packing .bf16) := fun v1 k0_t34 v228 v257 k0_hw21 k0_t39 => k0_hw21.2.2.2.2.2.2.2.2.2.2.2.2.2.2.2.2.2.1.2.2.2.2.2.2.2.2.2.2.2.2.2.2.2.2.2.2.2.2.2.1 k0_t39 (k0_off951_inb v1 k0_t34 v228 v257 k0_hw21 k0_t39)
theorem k0_off952_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off952 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.1.2.2.2.2.2.2.2.2.2.2.2.2.2.2.2.2.2.2.2.2.2.2.1 k0_t39
theorem k0_off952_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off952 v1 k0_t34 v228 v257 k0_t39) S1x1x1x16x128.size (k0_off952_inb v1 k0_t34 v228 v257 k0_hw21 k0_t39)).PackedRows (EltTy.packing .bf16) := fun v1 k0_t34 v228 v257 k0_hw21 k0_t39 => k0_hw21.2.2.2.2.2.2.2.2.2.2.2.2.2.2.2.2.2.1.2.2.2.2.2.2.2.2.2.2.2.2.2.2.2.2.2.2.2.2.2.2.2.1 k0_t39 (k0_off952_inb v1 k0_t34 v228 v257 k0_hw21 k0_t39)
theorem k0_off953_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off953 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.1.2.2.2.2.2.2.2.2.2.2.2.2.2.2.2.2.2.2.2.2.2.2.2.2.1 k0_t39
theorem k0_off953_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off953 v1 k0_t34 v228 v257 k0_t39) S1x1x1x16x128.size (k0_off953_inb v1 k0_t34 v228 v257 k0_hw21 k0_t39)).PackedRows (EltTy.packing .bf16) := fun v1 k0_t34 v228 v257 k0_hw21 k0_t39 => k0_hw21.2.2.2.2.2.2.2.2.2.2.2.2.2.2.2.2.2.1.2.2.2.2.2.2.2.2.2.2.2.2.2.2.2.2.2.2.2.2.2.2.2.2.2.1 k0_t39 (k0_off953_inb v1 k0_t34 v228 v257 k0_hw21 k0_t39)
theorem k0_off954_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off954 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.1.2.2.2.2.2.2.2.2.2.2.2.2.2.2.2.2.2.2.2.2.2.2.2.2.2.2.1 k0_t39
theorem k0_off954_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off954 v1 k0_t34 v228 v257 k0_t39) S1x1x1x16x128.size (k0_off954_inb v1 k0_t34 v228 v257 k0_hw21 k0_t39)).PackedRows (EltTy.packing .bf16) := fun v1 k0_t34 v228 v257 k0_hw21 k0_t39 => k0_hw21.2.2.2.2.2.2.2.2.2.2.2.2.2.2.2.2.2.1.2.2.2.2.2.2.2.2.2.2.2.2.2.2.2.2.2.2.2.2.2.2.2.2.2.2.2.1 k0_t39 (k0_off954_inb v1 k0_t34 v228 v257 k0_hw21 k0_t39)
theorem k0_off955_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off955 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.1.2.2.2.2.2.2.2.2.2.2.2.2.2.2.2.2.2.2.2.2.2.2.2.2.2.2.2.2.1 k0_t39
theorem k0_off955_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off955 v1 k0_t34 v228 v257 k0_t39) S1x1x1x16x128.size (k0_off955_inb v1 k0_t34 v228 v257 k0_hw21 k0_t39)).PackedRows (EltTy.packing .bf16) := fun v1 k0_t34 v228 v257 k0_hw21 k0_t39 => k0_hw21.2.2.2.2.2.2.2.2.2.2.2.2.2.2.2.2.2.1.2.2.2.2.2.2.2.2.2.2.2.2.2.2.2.2.2.2.2.2.2.2.2.2.2.2.2.2.2.1 k0_t39 (k0_off955_inb v1 k0_t34 v228 v257 k0_hw21 k0_t39)
theorem k0_off956_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off956 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.1.2.2.2.2.2.2.2.2.2.2.2.2.2.2.2.2.2.2.2.2.2.2.2.2.2.2.2.2.2.2.1 k0_t39
theorem k0_off956_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off956 v1 k0_t34 v228 v257 k0_t39) S1x1x1x16x128.size (k0_off956_inb v1 k0_t34 v228 v257 k0_hw21 k0_t39)).PackedRows (EltTy.packing .bf16) := fun v1 k0_t34 v228 v257 k0_hw21 k0_t39 => k0_hw21.2.2.2.2.2.2.2.2.2.2.2.2.2.2.2.2.2.1.2.2.2.2.2.2.2.2.2.2.2.2.2.2.2.2.2.2.2.2.2.2.2.2.2.2.2.2.2.2.2 k0_t39 (k0_off956_inb v1 k0_t34 v228 v257 k0_hw21 k0_t39)
theorem k0_off957_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off957 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.1.1 k0_t39
theorem k0_off957_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off957 v1 k0_t34 v228 v257 k0_t39) S1x1x1x16x128.size (k0_off957_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.1.2.1 k0_t39 (k0_off957_inb v1 k0_t34 v228 v257 k0_hw21 k0_t39)
theorem k0_off958_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off958 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.1.2.2.1 k0_t39
theorem k0_off958_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off958 v1 k0_t34 v228 v257 k0_t39) S1x1x1x16x128.size (k0_off958_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.1.2.2.2.1 k0_t39 (k0_off958_inb v1 k0_t34 v228 v257 k0_hw21 k0_t39)
theorem k0_off959_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off959 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.1.2.2.2.2.1 k0_t39
theorem k0_off959_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off959 v1 k0_t34 v228 v257 k0_t39) S1x1x1x16x128.size (k0_off959_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.1.2.2.2.2.2.1 k0_t39 (k0_off959_inb v1 k0_t34 v228 v257 k0_hw21 k0_t39)
theorem k0_off960_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off960 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.1.2.2.2.2.2.2.1 k0_t39
theorem k0_off960_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off960 v1 k0_t34 v228 v257 k0_t39) S1x1x1x16x128.size (k0_off960_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.1.2.2.2.2.2.2.2.1 k0_t39 (k0_off960_inb v1 k0_t34 v228 v257 k0_hw21 k0_t39)
theorem k0_off961_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off961 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.1.2.2.2.2.2.2.2.2.1 k0_t39
theorem k0_off961_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off961 v1 k0_t34 v228 v257 k0_t39) S1x1x1x16x128.size (k0_off961_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.1.2.2.2.2.2.2.2.2.2.1 k0_t39 (k0_off961_inb v1 k0_t34 v228 v257 k0_hw21 k0_t39)
theorem k0_off962_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off962 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.1.2.2.2.2.2.2.2.2.2.2.1 k0_t39
theorem k0_off962_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off962 v1 k0_t34 v228 v257 k0_t39) S1x1x1x16x128.size (k0_off962_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.1.2.2.2.2.2.2.2.2.2.2.2.1 k0_t39 (k0_off962_inb v1 k0_t34 v228 v257 k0_hw21 k0_t39)
theorem k0_off963_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off963 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.1.2.2.2.2.2.2.2.2.2.2.2.2.1 k0_t39
theorem k0_off963_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off963 v1 k0_t34 v228 v257 k0_t39) S1x1x1x16x128.size (k0_off963_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.1.2.2.2.2.2.2.2.2.2.2.2.2.2.1 k0_t39 (k0_off963_inb v1 k0_t34 v228 v257 k0_hw21 k0_t39)
theorem k0_off964_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off964 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.1.2.2.2.2.2.2.2.2.2.2.2.2.2.2.1 k0_t39
theorem k0_off964_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off964 v1 k0_t34 v228 v257 k0_t39) S1x1x1x16x128.size (k0_off964_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.1.2.2.2.2.2.2.2.2.2.2.2.2.2.2.2.1 k0_t39 (k0_off964_inb v1 k0_t34 v228 v257 k0_hw21 k0_t39)
theorem k0_off965_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off965 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.1.2.2.2.2.2.2.2.2.2.2.2.2.2.2.2.2.1 k0_t39
theorem k0_off965_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off965 v1 k0_t34 v228 v257 k0_t39) S1x1x1x16x128.size (k0_off965_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.1.2.2.2.2.2.2.2.2.2.2.2.2.2.2.2.2.2.1 k0_t39 (k0_off965_inb v1 k0_t34 v228 v257 k0_hw21 k0_t39)
theorem k0_off966_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off966 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.1.2.2.2.2.2.2.2.2.2.2.2.2.2.2.2.2.2.2.1 k0_t39
theorem k0_off966_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off966 v1 k0_t34 v228 v257 k0_t39) S1x1x1x16x128.size (k0_off966_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.1.2.2.2.2.2.2.2.2.2.2.2.2.2.2.2.2.2.2.2.1 k0_t39 (k0_off966_inb v1 k0_t34 v228 v257 k0_hw21 k0_t39)
theorem k0_off967_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off967 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.1.2.2.2.2.2.2.2.2.2.2.2.2.2.2.2.2.2.2.2.2.1 k0_t39
theorem k0_off967_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off967 v1 k0_t34 v228 v257 k0_t39) S1x1x1x16x128.size (k0_off967_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.1.2.2.2.2.2.2.2.2.2.2.2.2.2.2.2.2.2.2.2.2.2.1 k0_t39 (k0_off967_inb v1 k0_t34 v228 v257 k0_hw21 k0_t39)
theorem k0_off968_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off968 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.1.2.2.2.2.2.2.2.2.2.2.2.2.2.2.2.2.2.2.2.2.2.2.1 k0_t39
theorem k0_off968_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off968 v1 k0_t34 v228 v257 k0_t39) S1x1x1x16x128.size (k0_off968_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.1.2.2.2.2.2.2.2.2.2.2.2.2.2.2.2.2.2.2.2.2.2.2.2.1 k0_t39 (k0_off968_inb v1 k0_t34 v228 v257 k0_hw21 k0_t39)
theorem k0_off969_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off969 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.1.2.2.2.2.2.2.2.2.2.2.2.2.2.2.2.2.2.2.2.2.2.2.2.2.1 k0_t39
theorem k0_off969_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off969 v1 k0_t34 v228 v257 k0_t39) S1x1x1x16x128.size (k0_off969_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.1.2.2.2.2.2.2.2.2.2.2.2.2.2.2.2.2.2.2.2.2.2.2.2.2.2.1 k0_t39 (k0_off969_inb v1 k0_t34 v228 v257 k0_hw21 k0_t39)
theorem k0_off970_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off970 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.1.2.2.2.2.2.2.2.2.2.2.2.2.2.2.2.2.2.2.2.2.2.2.2.2.2.2.1 k0_t39
theorem k0_off970_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off970 v1 k0_t34 v228 v257 k0_t39) S1x1x1x16x128.size (k0_off970_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.1.2.2.2.2.2.2.2.2.2.2.2.2.2.2.2.2.2.2.2.2.2.2.2.2.2.2.2.1 k0_t39 (k0_off970_inb v1 k0_t34 v228 v257 k0_hw21 k0_t39)
theorem k0_off971_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off971 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.1.2.2.2.2.2.2.2.2.2.2.2.2.2.2.2.2.2.2.2.2.2.2.2.2.2.2.2.2.1 k0_t39
theorem k0_off971_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off971 v1 k0_t34 v228 v257 k0_t39) S1x1x1x16x128.size (k0_off971_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.1.2.2.2.2.2.2.2.2.2.2.2.2.2.2.2.2.2.2.2.2.2.2.2.2.2.2.2.2.2.1 k0_t39 (k0_off971_inb v1 k0_t34 v228 v257 k0_hw21 k0_t39)
theorem k0_off972_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off972 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.1.2.2.2.2.2.2.2.2.2.2.2.2.2.2.2.2.2.2.2.2.2.2.2.2.2.2.2.2.2.2.1 k0_t39
theorem k0_off972_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off972 v1 k0_t34 v228 v257 k0_t39) S1x1x1x16x128.size (k0_off972_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.1.2.2.2.2.2.2.2.2.2.2.2.2.2.2.2.2.2.2.2.2.2.2.2.2.2.2.2.2.2.2.2 k0_t39 (k0_off972_inb v1 k0_t34 v228 v257 k0_hw21 k0_t39)
theorem k0_off973_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off973 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.1.1 k0_t39
theorem k0_off973_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off973 v1 k0_t34 v228 v257 k0_t39) S1x1x1x16x128.size (k0_off973_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.1.2.1 k0_t39 (k0_off973_inb v1 k0_t34 v228 v257 k0_hw21 k0_t39)
theorem k0_off974_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off974 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.1.2.2.1 k0_t39
theorem k0_off974_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off974 v1 k0_t34 v228 v257 k0_t39) S1x1x1x16x128.size (k0_off974_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.1.2.2.2.1 k0_t39 (k0_off974_inb v1 k0_t34 v228 v257 k0_hw21 k0_t39)
theorem k0_off975_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off975 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.1.2.2.2.2.1 k0_t39
theorem k0_off975_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off975 v1 k0_t34 v228 v257 k0_t39) S1x1x1x16x128.size (k0_off975_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.1.2.2.2.2.2.1 k0_t39 (k0_off975_inb v1 k0_t34 v228 v257 k0_hw21 k0_t39)
theorem k0_off976_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off976 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.1.2.2.2.2.2.2.1 k0_t39
theorem k0_off976_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off976 v1 k0_t34 v228 v257 k0_t39) S1x1x1x16x128.size (k0_off976_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.1.2.2.2.2.2.2.2.1 k0_t39 (k0_off976_inb v1 k0_t34 v228 v257 k0_hw21 k0_t39)
theorem k0_off977_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off977 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.1.2.2.2.2.2.2.2.2.1 k0_t39
theorem k0_off977_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off977 v1 k0_t34 v228 v257 k0_t39) S1x1x1x16x128.size (k0_off977_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.1.2.2.2.2.2.2.2.2.2.1 k0_t39 (k0_off977_inb v1 k0_t34 v228 v257 k0_hw21 k0_t39)
theorem k0_off978_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off978 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.1.2.2.2.2.2.2.2.2.2.2.1 k0_t39
theorem k0_off978_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off978 v1 k0_t34 v228 v257 k0_t39) S1x1x1x16x128.size (k0_off978_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.1.2.2.2.2.2.2.2.2.2.2.2.1 k0_t39 (k0_off978_inb v1 k0_t34 v228 v257 k0_hw21 k0_t39)
theorem k0_off979_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off979 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.1.2.2.2.2.2.2.2.2.2.2.2.2.1 k0_t39
theorem k0_off979_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off979 v1 k0_t34 v228 v257 k0_t39) S1x1x1x16x128.size (k0_off979_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.1.2.2.2.2.2.2.2.2.2.2.2.2.2.1 k0_t39 (k0_off979_inb v1 k0_t34 v228 v257 k0_hw21 k0_t39)
theorem k0_off980_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off980 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.1.2.2.2.2.2.2.2.2.2.2.2.2.2.2.1 k0_t39
theorem k0_off980_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off980 v1 k0_t34 v228 v257 k0_t39) S1x1x1x16x128.size (k0_off980_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.1.2.2.2.2.2.2.2.2.2.2.2.2.2.2.2.1 k0_t39 (k0_off980_inb v1 k0_t34 v228 v257 k0_hw21 k0_t39)
theorem k0_off981_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off981 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.1.2.2.2.2.2.2.2.2.2.2.2.2.2.2.2.2.1 k0_t39
theorem k0_off981_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off981 v1 k0_t34 v228 v257 k0_t39) S1x1x1x16x128.size (k0_off981_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.1.2.2.2.2.2.2.2.2.2.2.2.2.2.2.2.2.2.1 k0_t39 (k0_off981_inb v1 k0_t34 v228 v257 k0_hw21 k0_t39)
theorem k0_off982_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off982 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.1.2.2.2.2.2.2.2.2.2.2.2.2.2.2.2.2.2.2.1 k0_t39
theorem k0_off982_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off982 v1 k0_t34 v228 v257 k0_t39) S1x1x1x16x128.size (k0_off982_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.1.2.2.2.2.2.2.2.2.2.2.2.2.2.2.2.2.2.2.2.1 k0_t39 (k0_off982_inb v1 k0_t34 v228 v257 k0_hw21 k0_t39)
theorem k0_off983_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off983 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.1.2.2.2.2.2.2.2.2.2.2.2.2.2.2.2.2.2.2.2.2.1 k0_t39
theorem k0_off983_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off983 v1 k0_t34 v228 v257 k0_t39) S1x1x1x16x128.size (k0_off983_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.1.2.2.2.2.2.2.2.2.2.2.2.2.2.2.2.2.2.2.2.2.2.1 k0_t39 (k0_off983_inb v1 k0_t34 v228 v257 k0_hw21 k0_t39)
theorem k0_off984_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off984 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.1.2.2.2.2.2.2.2.2.2.2.2.2.2.2.2.2.2.2.2.2.2.2.1 k0_t39
theorem k0_off984_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off984 v1 k0_t34 v228 v257 k0_t39) S1x1x1x16x128.size (k0_off984_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.1.2.2.2.2.2.2.2.2.2.2.2.2.2.2.2.2.2.2.2.2.2.2.2.1 k0_t39 (k0_off984_inb v1 k0_t34 v228 v257 k0_hw21 k0_t39)
theorem k0_off985_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off985 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.1.2.2.2.2.2.2.2.2.2.2.2.2.2.2.2.2.2.2.2.2.2.2.2.2.1 k0_t39
theorem k0_off985_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off985 v1 k0_t34 v228 v257 k0_t39) S1x1x1x16x128.size (k0_off985_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.1.2.2.2.2.2.2.2.2.2.2.2.2.2.2.2.2.2.2.2.2.2.2.2.2.2.1 k0_t39 (k0_off985_inb v1 k0_t34 v228 v257 k0_hw21 k0_t39)
theorem k0_off986_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off986 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.1.2.2.2.2.2.2.2.2.2.2.2.2.2.2.2.2.2.2.2.2.2.2.2.2.2.2.1 k0_t39
theorem k0_off986_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off986 v1 k0_t34 v228 v257 k0_t39) S1x1x1x16x128.size (k0_off986_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.1.2.2.2.2.2.2.2.2.2.2.2.2.2.2.2.2.2.2.2.2.2.2.2.2.2.2.2.1 k0_t39 (k0_off986_inb v1 k0_t34 v228 v257 k0_hw21 k0_t39)
theorem k0_off987_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off987 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.1.2.2.2.2.2.2.2.2.2.2.2.2.2.2.2.2.2.2.2.2.2.2.2.2.2.2.2.2.1 k0_t39
theorem k0_off987_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off987 v1 k0_t34 v228 v257 k0_t39) S1x1x1x16x128.size (k0_off987_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.1.2.2.2.2.2.2.2.2.2.2.2.2.2.2.2.2.2.2.2.2.2.2.2.2.2.2.2.2.2.1 k0_t39 (k0_off987_inb v1 k0_t34 v228 v257 k0_hw21 k0_t39)
theorem k0_off988_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off988 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.1.2.2.2.2.2.2.2.2.2.2.2.2.2.2.2.2.2.2.2.2.2.2.2.2.2.2.2.2.2.2.1 k0_t39
theorem k0_off988_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off988 v1 k0_t34 v228 v257 k0_t39) S1x1x1x16x128.size (k0_off988_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.1.2.2.2.2.2.2.2.2.2.2.2.2.2.2.2.2.2.2.2.2.2.2.2.2.2.2.2.2.2.2.2 k0_t39 (k0_off988_inb v1 k0_t34 v228 v257 k0_hw21 k0_t39)
theorem k0_off989_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off989 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.1.1 k0_t39
theorem k0_off989_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off989 v1 k0_t34 v228 v257 k0_t39) S1x1x1x16x128.size (k0_off989_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.1.2.1 k0_t39 (k0_off989_inb v1 k0_t34 v228 v257 k0_hw21 k0_t39)
theorem k0_off990_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off990 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.1.2.2.1 k0_t39
theorem k0_off990_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off990 v1 k0_t34 v228 v257 k0_t39) S1x1x1x16x128.size (k0_off990_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.1.2.2.2.1 k0_t39 (k0_off990_inb v1 k0_t34 v228 v257 k0_hw21 k0_t39)
theorem k0_off991_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off991 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.1.2.2.2.2.1 k0_t39
theorem k0_off991_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off991 v1 k0_t34 v228 v257 k0_t39) S1x1x1x16x128.size (k0_off991_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.1.2.2.2.2.2.1 k0_t39 (k0_off991_inb v1 k0_t34 v228 v257 k0_hw21 k0_t39)
theorem k0_off992_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off992 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.1.2.2.2.2.2.2.1 k0_t39
theorem k0_off992_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off992 v1 k0_t34 v228 v257 k0_t39) S1x1x1x16x128.size (k0_off992_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.1.2.2.2.2.2.2.2.1 k0_t39 (k0_off992_inb v1 k0_t34 v228 v257 k0_hw21 k0_t39)
theorem k0_off993_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off993 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.1.2.2.2.2.2.2.2.2.1 k0_t39
theorem k0_off993_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off993 v1 k0_t34 v228 v257 k0_t39) S1x1x1x16x128.size (k0_off993_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.1.2.2.2.2.2.2.2.2.2.1 k0_t39 (k0_off993_inb v1 k0_t34 v228 v257 k0_hw21 k0_t39)
theorem k0_off994_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off994 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.1.2.2.2.2.2.2.2.2.2.2.1 k0_t39
theorem k0_off994_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off994 v1 k0_t34 v228 v257 k0_t39) S1x1x1x16x128.size (k0_off994_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.1.2.2.2.2.2.2.2.2.2.2.2.1 k0_t39 (k0_off994_inb v1 k0_t34 v228 v257 k0_hw21 k0_t39)
theorem k0_off995_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off995 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.1.2.2.2.2.2.2.2.2.2.2.2.2.1 k0_t39
theorem k0_off995_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off995 v1 k0_t34 v228 v257 k0_t39) S1x1x1x16x128.size (k0_off995_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.1.2.2.2.2.2.2.2.2.2.2.2.2.2.1 k0_t39 (k0_off995_inb v1 k0_t34 v228 v257 k0_hw21 k0_t39)
theorem k0_off996_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off996 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.1.2.2.2.2.2.2.2.2.2.2.2.2.2.2.1 k0_t39
theorem k0_off996_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off996 v1 k0_t34 v228 v257 k0_t39) S1x1x1x16x128.size (k0_off996_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.1.2.2.2.2.2.2.2.2.2.2.2.2.2.2.2.1 k0_t39 (k0_off996_inb v1 k0_t34 v228 v257 k0_hw21 k0_t39)
theorem k0_off997_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off997 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.1.2.2.2.2.2.2.2.2.2.2.2.2.2.2.2.2.1 k0_t39
theorem k0_off997_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off997 v1 k0_t34 v228 v257 k0_t39) S1x1x1x16x128.size (k0_off997_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.1.2.2.2.2.2.2.2.2.2.2.2.2.2.2.2.2.2.1 k0_t39 (k0_off997_inb v1 k0_t34 v228 v257 k0_hw21 k0_t39)
theorem k0_off998_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off998 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.1.2.2.2.2.2.2.2.2.2.2.2.2.2.2.2.2.2.2.1 k0_t39
theorem k0_off998_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off998 v1 k0_t34 v228 v257 k0_t39) S1x1x1x16x128.size (k0_off998_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.1.2.2.2.2.2.2.2.2.2.2.2.2.2.2.2.2.2.2.2.1 k0_t39 (k0_off998_inb v1 k0_t34 v228 v257 k0_hw21 k0_t39)
theorem k0_off999_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off999 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.1.2.2.2.2.2.2.2.2.2.2.2.2.2.2.2.2.2.2.2.2.1 k0_t39
theorem k0_off999_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off999 v1 k0_t34 v228 v257 k0_t39) S1x1x1x16x128.size (k0_off999_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.1.2.2.2.2.2.2.2.2.2.2.2.2.2.2.2.2.2.2.2.2.2.1 k0_t39 (k0_off999_inb v1 k0_t34 v228 v257 k0_hw21 k0_t39)
theorem k0_off1000_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1000 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.1.2.2.2.2.2.2.2.2.2.2.2.2.2.2.2.2.2.2.2.2.2.2.1 k0_t39
theorem k0_off1000_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1000 v1 k0_t34 v228 v257 k0_t39) S1x1x1x16x128.size (k0_off1000_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.1.2.2.2.2.2.2.2.2.2.2.2.2.2.2.2.2.2.2.2.2.2.2.2.1 k0_t39 (k0_off1000_inb v1 k0_t34 v228 v257 k0_hw21 k0_t39)
theorem k0_off1001_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1001 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.1.2.2.2.2.2.2.2.2.2.2.2.2.2.2.2.2.2.2.2.2.2.2.2.2.1 k0_t39
theorem k0_off1001_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1001 v1 k0_t34 v228 v257 k0_t39) S1x1x1x16x128.size (k0_off1001_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.1.2.2.2.2.2.2.2.2.2.2.2.2.2.2.2.2.2.2.2.2.2.2.2.2.2.1 k0_t39 (k0_off1001_inb v1 k0_t34 v228 v257 k0_hw21 k0_t39)
theorem k0_off1002_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1002 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.1.2.2.2.2.2.2.2.2.2.2.2.2.2.2.2.2.2.2.2.2.2.2.2.2.2.2.1 k0_t39
theorem k0_off1002_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1002 v1 k0_t34 v228 v257 k0_t39) S1x1x1x16x128.size (k0_off1002_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.1.2.2.2.2.2.2.2.2.2.2.2.2.2.2.2.2.2.2.2.2.2.2.2.2.2.2.2.1 k0_t39 (k0_off1002_inb v1 k0_t34 v228 v257 k0_hw21 k0_t39)
theorem k0_off1003_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1003 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.1.2.2.2.2.2.2.2.2.2.2.2.2.2.2.2.2.2.2.2.2.2.2.2.2.2.2.2.2.1 k0_t39
theorem k0_off1003_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1003 v1 k0_t34 v228 v257 k0_t39) S1x1x1x16x128.size (k0_off1003_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.1.2.2.2.2.2.2.2.2.2.2.2.2.2.2.2.2.2.2.2.2.2.2.2.2.2.2.2.2.2.1 k0_t39 (k0_off1003_inb v1 k0_t34 v228 v257 k0_hw21 k0_t39)
theorem k0_off1004_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1004 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.1.2.2.2.2.2.2.2.2.2.2.2.2.2.2.2.2.2.2.2.2.2.2.2.2.2.2.2.2.2.2.1 k0_t39
theorem k0_off1004_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1004 v1 k0_t34 v228 v257 k0_t39) S1x1x1x16x128.size (k0_off1004_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.1.2.2.2.2.2.2.2.2.2.2.2.2.2.2.2.2.2.2.2.2.2.2.2.2.2.2.2.2.2.2.2 k0_t39 (k0_off1004_inb v1 k0_t34 v228 v257 k0_hw21 k0_t39)
theorem k0_off1005_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1005 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.1.1 k0_t39
theorem k0_off1005_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1005 v1 k0_t34 v228 v257 k0_t39) S1x1x1x16x128.size (k0_off1005_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.1.2.1 k0_t39 (k0_off1005_inb v1 k0_t34 v228 v257 k0_hw21 k0_t39)
theorem k0_off1006_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1006 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.1.2.2.1 k0_t39
theorem k0_off1006_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1006 v1 k0_t34 v228 v257 k0_t39) S1x1x1x16x128.size (k0_off1006_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.1.2.2.2.1 k0_t39 (k0_off1006_inb v1 k0_t34 v228 v257 k0_hw21 k0_t39)
theorem k0_off1007_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1007 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.1.2.2.2.2.1 k0_t39
theorem k0_off1007_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1007 v1 k0_t34 v228 v257 k0_t39) S1x1x1x16x128.size (k0_off1007_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.1.2.2.2.2.2.1 k0_t39 (k0_off1007_inb v1 k0_t34 v228 v257 k0_hw21 k0_t39)
theorem k0_off1008_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1008 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.1.2.2.2.2.2.2.1 k0_t39
theorem k0_off1008_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1008 v1 k0_t34 v228 v257 k0_t39) S1x1x1x16x128.size (k0_off1008_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.1.2.2.2.2.2.2.2.1 k0_t39 (k0_off1008_inb v1 k0_t34 v228 v257 k0_hw21 k0_t39)
theorem k0_off1009_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1009 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.1.2.2.2.2.2.2.2.2.1 k0_t39
theorem k0_off1009_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1009 v1 k0_t34 v228 v257 k0_t39) S1x1x1x16x128.size (k0_off1009_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.1.2.2.2.2.2.2.2.2.2.1 k0_t39 (k0_off1009_inb v1 k0_t34 v228 v257 k0_hw21 k0_t39)
theorem k0_off1010_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1010 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.1.2.2.2.2.2.2.2.2.2.2.1 k0_t39
theorem k0_off1010_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1010 v1 k0_t34 v228 v257 k0_t39) S1x1x1x16x128.size (k0_off1010_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.1.2.2.2.2.2.2.2.2.2.2.2.1 k0_t39 (k0_off1010_inb v1 k0_t34 v228 v257 k0_hw21 k0_t39)
theorem k0_off1011_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1011 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.1.2.2.2.2.2.2.2.2.2.2.2.2.1 k0_t39
theorem k0_off1011_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1011 v1 k0_t34 v228 v257 k0_t39) S1x1x1x16x128.size (k0_off1011_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.1.2.2.2.2.2.2.2.2.2.2.2.2.2.1 k0_t39 (k0_off1011_inb v1 k0_t34 v228 v257 k0_hw21 k0_t39)
theorem k0_off1012_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1012 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.1.2.2.2.2.2.2.2.2.2.2.2.2.2.2.1 k0_t39
theorem k0_off1012_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1012 v1 k0_t34 v228 v257 k0_t39) S1x1x1x16x128.size (k0_off1012_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.1.2.2.2.2.2.2.2.2.2.2.2.2.2.2.2.1 k0_t39 (k0_off1012_inb v1 k0_t34 v228 v257 k0_hw21 k0_t39)
theorem k0_off1013_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1013 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.1.2.2.2.2.2.2.2.2.2.2.2.2.2.2.2.2.1 k0_t39
theorem k0_off1013_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1013 v1 k0_t34 v228 v257 k0_t39) S1x1x1x16x128.size (k0_off1013_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.1.2.2.2.2.2.2.2.2.2.2.2.2.2.2.2.2.2.1 k0_t39 (k0_off1013_inb v1 k0_t34 v228 v257 k0_hw21 k0_t39)
theorem k0_off1014_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1014 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.1.2.2.2.2.2.2.2.2.2.2.2.2.2.2.2.2.2.2.1 k0_t39
theorem k0_off1014_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1014 v1 k0_t34 v228 v257 k0_t39) S1x1x1x16x128.size (k0_off1014_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.1.2.2.2.2.2.2.2.2.2.2.2.2.2.2.2.2.2.2.2.1 k0_t39 (k0_off1014_inb v1 k0_t34 v228 v257 k0_hw21 k0_t39)
theorem k0_off1015_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1015 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.1.2.2.2.2.2.2.2.2.2.2.2.2.2.2.2.2.2.2.2.2.1 k0_t39
theorem k0_off1015_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1015 v1 k0_t34 v228 v257 k0_t39) S1x1x1x16x128.size (k0_off1015_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.1.2.2.2.2.2.2.2.2.2.2.2.2.2.2.2.2.2.2.2.2.2.1 k0_t39 (k0_off1015_inb v1 k0_t34 v228 v257 k0_hw21 k0_t39)
theorem k0_off1016_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1016 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.1.2.2.2.2.2.2.2.2.2.2.2.2.2.2.2.2.2.2.2.2.2.2.1 k0_t39
theorem k0_off1016_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1016 v1 k0_t34 v228 v257 k0_t39) S1x1x1x16x128.size (k0_off1016_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.1.2.2.2.2.2.2.2.2.2.2.2.2.2.2.2.2.2.2.2.2.2.2.2.1 k0_t39 (k0_off1016_inb v1 k0_t34 v228 v257 k0_hw21 k0_t39)
theorem k0_off1017_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1017 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.1.2.2.2.2.2.2.2.2.2.2.2.2.2.2.2.2.2.2.2.2.2.2.2.2.1 k0_t39
theorem k0_off1017_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1017 v1 k0_t34 v228 v257 k0_t39) S1x1x1x16x128.size (k0_off1017_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.1.2.2.2.2.2.2.2.2.2.2.2.2.2.2.2.2.2.2.2.2.2.2.2.2.2.1 k0_t39 (k0_off1017_inb v1 k0_t34 v228 v257 k0_hw21 k0_t39)
theorem k0_off1018_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1018 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.1.2.2.2.2.2.2.2.2.2.2.2.2.2.2.2.2.2.2.2.2.2.2.2.2.2.2.1 k0_t39
theorem k0_off1018_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1018 v1 k0_t34 v228 v257 k0_t39) S1x1x1x16x128.size (k0_off1018_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.1.2.2.2.2.2.2.2.2.2.2.2.2.2.2.2.2.2.2.2.2.2.2.2.2.2.2.2.1 k0_t39 (k0_off1018_inb v1 k0_t34 v228 v257 k0_hw21 k0_t39)
theorem k0_off1019_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1019 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.1.2.2.2.2.2.2.2.2.2.2.2.2.2.2.2.2.2.2.2.2.2.2.2.2.2.2.2.2.1 k0_t39
theorem k0_off1019_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1019 v1 k0_t34 v228 v257 k0_t39) S1x1x1x16x128.size (k0_off1019_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.1.2.2.2.2.2.2.2.2.2.2.2.2.2.2.2.2.2.2.2.2.2.2.2.2.2.2.2.2.2.1 k0_t39 (k0_off1019_inb v1 k0_t34 v228 v257 k0_hw21 k0_t39)
theorem k0_off1020_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1020 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.1.2.2.2.2.2.2.2.2.2.2.2.2.2.2.2.2.2.2.2.2.2.2.2.2.2.2.2.2.2.2.1 k0_t39
theorem k0_off1020_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1020 v1 k0_t34 v228 v257 k0_t39) S1x1x1x16x128.size (k0_off1020_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.1.2.2.2.2.2.2.2.2.2.2.2.2.2.2.2.2.2.2.2.2.2.2.2.2.2.2.2.2.2.2.2 k0_t39 (k0_off1020_inb v1 k0_t34 v228 v257 k0_hw21 k0_t39)
theorem k0_off1021_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1021 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.1.1 k0_t39
theorem k0_off1021_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1021 v1 k0_t34 v228 v257 k0_t39) S1x1x1x16x128.size (k0_off1021_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.1.2.1 k0_t39 (k0_off1021_inb v1 k0_t34 v228 v257 k0_hw21 k0_t39)
theorem k0_off1022_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1022 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.1.2.2.1 k0_t39
theorem k0_off1022_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1022 v1 k0_t34 v228 v257 k0_t39) S1x1x1x16x128.size (k0_off1022_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.1.2.2.2.1 k0_t39 (k0_off1022_inb v1 k0_t34 v228 v257 k0_hw21 k0_t39)
theorem k0_off1023_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1023 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.1.2.2.2.2.1 k0_t39
theorem k0_off1023_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1023 v1 k0_t34 v228 v257 k0_t39) S1x1x1x16x128.size (k0_off1023_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.1.2.2.2.2.2.1 k0_t39 (k0_off1023_inb v1 k0_t34 v228 v257 k0_hw21 k0_t39)
theorem k0_off1024_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1024 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.1.2.2.2.2.2.2.1 k0_t39
theorem k0_off1024_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1024 v1 k0_t34 v228 v257 k0_t39) S1x1x1x16x128.size (k0_off1024_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.1.2.2.2.2.2.2.2.1 k0_t39 (k0_off1024_inb v1 k0_t34 v228 v257 k0_hw21 k0_t39)
theorem k0_off1025_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1025 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.1.2.2.2.2.2.2.2.2.1 k0_t39
theorem k0_off1025_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1025 v1 k0_t34 v228 v257 k0_t39) S1x1x1x16x128.size (k0_off1025_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.1.2.2.2.2.2.2.2.2.2.1 k0_t39 (k0_off1025_inb v1 k0_t34 v228 v257 k0_hw21 k0_t39)
theorem k0_off1026_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1026 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.1.2.2.2.2.2.2.2.2.2.2.1 k0_t39
theorem k0_off1026_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1026 v1 k0_t34 v228 v257 k0_t39) S1x1x1x16x128.size (k0_off1026_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.1.2.2.2.2.2.2.2.2.2.2.2.1 k0_t39 (k0_off1026_inb v1 k0_t34 v228 v257 k0_hw21 k0_t39)
theorem k0_off1027_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1027 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.1.2.2.2.2.2.2.2.2.2.2.2.2.1 k0_t39
theorem k0_off1027_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1027 v1 k0_t34 v228 v257 k0_t39) S1x1x1x16x128.size (k0_off1027_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.1.2.2.2.2.2.2.2.2.2.2.2.2.2.1 k0_t39 (k0_off1027_inb v1 k0_t34 v228 v257 k0_hw21 k0_t39)
theorem k0_off1028_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1028 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.1.2.2.2.2.2.2.2.2.2.2.2.2.2.2.1 k0_t39
theorem k0_off1028_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1028 v1 k0_t34 v228 v257 k0_t39) S1x1x1x16x128.size (k0_off1028_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.1.2.2.2.2.2.2.2.2.2.2.2.2.2.2.2.1 k0_t39 (k0_off1028_inb v1 k0_t34 v228 v257 k0_hw21 k0_t39)
theorem k0_off1029_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1029 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.1.2.2.2.2.2.2.2.2.2.2.2.2.2.2.2.2.1 k0_t39
theorem k0_off1029_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1029 v1 k0_t34 v228 v257 k0_t39) S1x1x1x16x128.size (k0_off1029_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.1.2.2.2.2.2.2.2.2.2.2.2.2.2.2.2.2.2.1 k0_t39 (k0_off1029_inb v1 k0_t34 v228 v257 k0_hw21 k0_t39)
theorem k0_off1030_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1030 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.1.2.2.2.2.2.2.2.2.2.2.2.2.2.2.2.2.2.2.1 k0_t39
theorem k0_off1030_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1030 v1 k0_t34 v228 v257 k0_t39) S1x1x1x16x128.size (k0_off1030_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.1.2.2.2.2.2.2.2.2.2.2.2.2.2.2.2.2.2.2.2.1 k0_t39 (k0_off1030_inb v1 k0_t34 v228 v257 k0_hw21 k0_t39)
theorem k0_off1031_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1031 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.1.2.2.2.2.2.2.2.2.2.2.2.2.2.2.2.2.2.2.2.2.1 k0_t39
theorem k0_off1031_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1031 v1 k0_t34 v228 v257 k0_t39) S1x1x1x16x128.size (k0_off1031_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.1.2.2.2.2.2.2.2.2.2.2.2.2.2.2.2.2.2.2.2.2.2.1 k0_t39 (k0_off1031_inb v1 k0_t34 v228 v257 k0_hw21 k0_t39)
theorem k0_off1032_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1032 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.1.2.2.2.2.2.2.2.2.2.2.2.2.2.2.2.2.2.2.2.2.2.2.1 k0_t39
theorem k0_off1032_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1032 v1 k0_t34 v228 v257 k0_t39) S1x1x1x16x128.size (k0_off1032_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.1.2.2.2.2.2.2.2.2.2.2.2.2.2.2.2.2.2.2.2.2.2.2.2.1 k0_t39 (k0_off1032_inb v1 k0_t34 v228 v257 k0_hw21 k0_t39)
theorem k0_off1033_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1033 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.1.2.2.2.2.2.2.2.2.2.2.2.2.2.2.2.2.2.2.2.2.2.2.2.2.1 k0_t39
theorem k0_off1033_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1033 v1 k0_t34 v228 v257 k0_t39) S1x1x1x16x128.size (k0_off1033_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.1.2.2.2.2.2.2.2.2.2.2.2.2.2.2.2.2.2.2.2.2.2.2.2.2.2.1 k0_t39 (k0_off1033_inb v1 k0_t34 v228 v257 k0_hw21 k0_t39)
theorem k0_off1034_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1034 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.1.2.2.2.2.2.2.2.2.2.2.2.2.2.2.2.2.2.2.2.2.2.2.2.2.2.2.1 k0_t39
theorem k0_off1034_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1034 v1 k0_t34 v228 v257 k0_t39) S1x1x1x16x128.size (k0_off1034_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.1.2.2.2.2.2.2.2.2.2.2.2.2.2.2.2.2.2.2.2.2.2.2.2.2.2.2.2.1 k0_t39 (k0_off1034_inb v1 k0_t34 v228 v257 k0_hw21 k0_t39)
theorem k0_off1035_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1035 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.1.2.2.2.2.2.2.2.2.2.2.2.2.2.2.2.2.2.2.2.2.2.2.2.2.2.2.2.2.1 k0_t39
theorem k0_off1035_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1035 v1 k0_t34 v228 v257 k0_t39) S1x1x1x16x128.size (k0_off1035_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.1.2.2.2.2.2.2.2.2.2.2.2.2.2.2.2.2.2.2.2.2.2.2.2.2.2.2.2.2.2.1 k0_t39 (k0_off1035_inb v1 k0_t34 v228 v257 k0_hw21 k0_t39)
theorem k0_off1036_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1036 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.1.2.2.2.2.2.2.2.2.2.2.2.2.2.2.2.2.2.2.2.2.2.2.2.2.2.2.2.2.2.2.1 k0_t39
theorem k0_off1036_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1036 v1 k0_t34 v228 v257 k0_t39) S1x1x1x16x128.size (k0_off1036_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.1.2.2.2.2.2.2.2.2.2.2.2.2.2.2.2.2.2.2.2.2.2.2.2.2.2.2.2.2.2.2.2 k0_t39 (k0_off1036_inb v1 k0_t34 v228 v257 k0_hw21 k0_t39)
theorem k0_off1037_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1037 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.2.1.1 k0_t39
theorem k0_off1037_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1037 v1 k0_t34 v228 v257 k0_t39) S1x1x1x16x128.size (k0_off1037_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.2.1.2.1 k0_t39 (k0_off1037_inb v1 k0_t34 v228 v257 k0_hw21 k0_t39)
theorem k0_off1038_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1038 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.2.1.2.2.1 k0_t39
theorem k0_off1038_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1038 v1 k0_t34 v228 v257 k0_t39) S1x1x1x16x128.size (k0_off1038_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.2.1.2.2.2.1 k0_t39 (k0_off1038_inb v1 k0_t34 v228 v257 k0_hw21 k0_t39)
theorem k0_off1039_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1039 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.2.1.2.2.2.2.1 k0_t39
theorem k0_off1039_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1039 v1 k0_t34 v228 v257 k0_t39) S1x1x1x16x128.size (k0_off1039_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.2.1.2.2.2.2.2.1 k0_t39 (k0_off1039_inb v1 k0_t34 v228 v257 k0_hw21 k0_t39)
theorem k0_off1040_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1040 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.2.1.2.2.2.2.2.2.1 k0_t39
theorem k0_off1040_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1040 v1 k0_t34 v228 v257 k0_t39) S1x1x1x16x128.size (k0_off1040_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.2.1.2.2.2.2.2.2.2.1 k0_t39 (k0_off1040_inb v1 k0_t34 v228 v257 k0_hw21 k0_t39)
theorem k0_off1041_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1041 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.2.1.2.2.2.2.2.2.2.2.1 k0_t39
theorem k0_off1041_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1041 v1 k0_t34 v228 v257 k0_t39) S1x1x1x16x128.size (k0_off1041_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.2.1.2.2.2.2.2.2.2.2.2.1 k0_t39 (k0_off1041_inb v1 k0_t34 v228 v257 k0_hw21 k0_t39)
theorem k0_off1042_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1042 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.2.1.2.2.2.2.2.2.2.2.2.2.1 k0_t39
theorem k0_off1042_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1042 v1 k0_t34 v228 v257 k0_t39) S1x1x1x16x128.size (k0_off1042_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.2.1.2.2.2.2.2.2.2.2.2.2.2.1 k0_t39 (k0_off1042_inb v1 k0_t34 v228 v257 k0_hw21 k0_t39)
theorem k0_off1043_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1043 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.2.1.2.2.2.2.2.2.2.2.2.2.2.2.1 k0_t39
theorem k0_off1043_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1043 v1 k0_t34 v228 v257 k0_t39) S1x1x1x16x128.size (k0_off1043_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.2.1.2.2.2.2.2.2.2.2.2.2.2.2.2.1 k0_t39 (k0_off1043_inb v1 k0_t34 v228 v257 k0_hw21 k0_t39)
theorem k0_off1044_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1044 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.2.1.2.2.2.2.2.2.2.2.2.2.2.2.2.2.1 k0_t39
theorem k0_off1044_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1044 v1 k0_t34 v228 v257 k0_t39) S1x1x1x16x128.size (k0_off1044_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.2.1.2.2.2.2.2.2.2.2.2.2.2.2.2.2.2.1 k0_t39 (k0_off1044_inb v1 k0_t34 v228 v257 k0_hw21 k0_t39)
theorem k0_off1045_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1045 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.2.1.2.2.2.2.2.2.2.2.2.2.2.2.2.2.2.2.1 k0_t39
theorem k0_off1045_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1045 v1 k0_t34 v228 v257 k0_t39) S1x1x1x16x128.size (k0_off1045_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.2.1.2.2.2.2.2.2.2.2.2.2.2.2.2.2.2.2.2.1 k0_t39 (k0_off1045_inb v1 k0_t34 v228 v257 k0_hw21 k0_t39)
theorem k0_off1046_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1046 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.2.1.2.2.2.2.2.2.2.2.2.2.2.2.2.2.2.2.2.2.1 k0_t39
theorem k0_off1046_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1046 v1 k0_t34 v228 v257 k0_t39) S1x1x1x16x128.size (k0_off1046_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.2.1.2.2.2.2.2.2.2.2.2.2.2.2.2.2.2.2.2.2.2.1 k0_t39 (k0_off1046_inb v1 k0_t34 v228 v257 k0_hw21 k0_t39)
theorem k0_off1047_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1047 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.2.1.2.2.2.2.2.2.2.2.2.2.2.2.2.2.2.2.2.2.2.2.1 k0_t39
theorem k0_off1047_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1047 v1 k0_t34 v228 v257 k0_t39) S1x1x1x16x128.size (k0_off1047_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.2.1.2.2.2.2.2.2.2.2.2.2.2.2.2.2.2.2.2.2.2.2.2.1 k0_t39 (k0_off1047_inb v1 k0_t34 v228 v257 k0_hw21 k0_t39)
theorem k0_off1048_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1048 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.2.1.2.2.2.2.2.2.2.2.2.2.2.2.2.2.2.2.2.2.2.2.2.2.1 k0_t39
theorem k0_off1048_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1048 v1 k0_t34 v228 v257 k0_t39) S1x1x1x16x128.size (k0_off1048_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.2.1.2.2.2.2.2.2.2.2.2.2.2.2.2.2.2.2.2.2.2.2.2.2.2.1 k0_t39 (k0_off1048_inb v1 k0_t34 v228 v257 k0_hw21 k0_t39)
theorem k0_off1049_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1049 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.2.1.2.2.2.2.2.2.2.2.2.2.2.2.2.2.2.2.2.2.2.2.2.2.2.2.1 k0_t39
theorem k0_off1049_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1049 v1 k0_t34 v228 v257 k0_t39) S1x1x1x16x128.size (k0_off1049_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.2.1.2.2.2.2.2.2.2.2.2.2.2.2.2.2.2.2.2.2.2.2.2.2.2.2.2.1 k0_t39 (k0_off1049_inb v1 k0_t34 v228 v257 k0_hw21 k0_t39)
theorem k0_off1050_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1050 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.2.1.2.2.2.2.2.2.2.2.2.2.2.2.2.2.2.2.2.2.2.2.2.2.2.2.2.2.1 k0_t39
theorem k0_off1050_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1050 v1 k0_t34 v228 v257 k0_t39) S1x1x1x16x128.size (k0_off1050_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.2.1.2.2.2.2.2.2.2.2.2.2.2.2.2.2.2.2.2.2.2.2.2.2.2.2.2.2.2.1 k0_t39 (k0_off1050_inb v1 k0_t34 v228 v257 k0_hw21 k0_t39)
theorem k0_off1051_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1051 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.2.1.2.2.2.2.2.2.2.2.2.2.2.2.2.2.2.2.2.2.2.2.2.2.2.2.2.2.2.2.1 k0_t39
theorem k0_off1051_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1051 v1 k0_t34 v228 v257 k0_t39) S1x1x1x16x128.size (k0_off1051_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.2.1.2.2.2.2.2.2.2.2.2.2.2.2.2.2.2.2.2.2.2.2.2.2.2.2.2.2.2.2.2.1 k0_t39 (k0_off1051_inb v1 k0_t34 v228 v257 k0_hw21 k0_t39)
theorem k0_off1052_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1052 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.2.1.2.2.2.2.2.2.2.2.2.2.2.2.2.2.2.2.2.2.2.2.2.2.2.2.2.2.2.2.2.2.1 k0_t39
theorem k0_off1052_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1052 v1 k0_t34 v228 v257 k0_t39) S1x1x1x16x128.size (k0_off1052_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.2.1.2.2.2.2.2.2.2.2.2.2.2.2.2.2.2.2.2.2.2.2.2.2.2.2.2.2.2.2.2.2.2 k0_t39 (k0_off1052_inb v1 k0_t34 v228 v257 k0_hw21 k0_t39)
theorem k0_off1053_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1053 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.2.2.1.1 k0_t39
theorem k0_off1053_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1053 v1 k0_t34 v228 v257 k0_t39) S1x1x1x16x128.size (k0_off1053_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.2.2.1.2.1 k0_t39 (k0_off1053_inb v1 k0_t34 v228 v257 k0_hw21 k0_t39)
theorem k0_off1054_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1054 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.2.2.1.2.2.1 k0_t39
theorem k0_off1054_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1054 v1 k0_t34 v228 v257 k0_t39) S1x1x1x16x128.size (k0_off1054_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.2.2.1.2.2.2.1 k0_t39 (k0_off1054_inb v1 k0_t34 v228 v257 k0_hw21 k0_t39)
theorem k0_off1055_inb : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), ∀ a, (k0_off1055 v1 k0_t34 v228 v257 k0_t39) a + S1x1x1x16x128.size a ≤ S2x2x108x128x128.size a := fun v1 k0_t34 v228 v257 k0_hw21 k0_t39 => k0_hw21.2.2.2.2.2.2.2.2.2.2.2.2.2.2.2.2.2.2.2.2.2.2.2.2.1.2.2.2.2.1 k0_t39
theorem k0_off1055_packedbf16 : ∀ (v1 : BitVec 32) (k0_t34 : Fin (k0_t34_loop v1).trips) (v228 : BitVec 32) (v257 : BitVec 32) (k0_hw21 : k0_chk21 v1 k0_t34 v228 v257) (k0_t39 : Fin (k0_t39_loop v228 v257).trips), (Rect.unit (s := S2x2x108x128x128) (k0_off1055 v1 k0_t34 v228 v257 k0_t39) S1x1x1x16x128.size (k0_off1055_inb v1 k0_t34 v228 v257 k0_hw21 k0_t39)).PackedRows (EltTy.packing .bf16) := fun v1 k0_t34 v228 v257 k0_hw21 k0_t39 => k0_hw21.2.2.2.2.2.2.2.2.2.2.2.2.2.2.2.2.2.2.2.2.2.2.2.2.1.2.2.2.2.2.1 k0_t39 (k0_off1055_inb v1 k0_t34 v228 v257 k0_hw21 k0_t39)
theorem k0_t40_ok : ∀ (v1 : BitVec 32) (k0_t34 : Fin (k0_t34_loop v1).trips) (v228 : BitVec 32) (v257 : BitVec 32) (k0_hw21 : k0_chk21 v1 k0_t34 v228 v257), (k0_t40_loop v228 v257).OK := fun v1 k0_t34 v228 v257 k0_hw21 => k0_hw21.2.2.2.2.2.2.2.2.2.2.2.2.2.2.2.2.2.2.2.2.2.2.2.2.1.2.2.2.2.2.2.1
theorem k0_mult9_dvd : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), 16 ∣ (k0_mult9 v228 v257 k0_t40).toNat := fun v1 k0_t34 v228 v257 k0_hw21 k0_t40 => k0_hw21.2.2.2.2.2.2.2.2.2.2.2.2.2.2.2.2.2.2.2.2.2.2.2.2.1.2.2.2.2.2.2.2.1 k0_t40
theorem k0_off1056_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1056 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.1.2.2.2.2.2.2.2.2.1 k0_t40
theorem k0_off1056_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1056 v1 k0_t34 v228 v257 k0_t40) S1x1x1x16x128.size (k0_off1056_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.1.2.2.2.2.2.2.2.2.2.1 k0_t40 (k0_off1056_inb v1 k0_t34 v228 v257 k0_hw21 k0_t40)
theorem k0_off1057_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1057 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.1.2.2.2.2.2.2.2.2.2.2.1 k0_t40
theorem k0_off1057_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1057 v1 k0_t34 v228 v257 k0_t40) S1x1x1x16x128.size (k0_off1057_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.1.2.2.2.2.2.2.2.2.2.2.2.1 k0_t40 (k0_off1057_inb v1 k0_t34 v228 v257 k0_hw21 k0_t40)
theorem k0_off1058_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1058 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.1.2.2.2.2.2.2.2.2.2.2.2.2.1 k0_t40
theorem k0_off1058_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1058 v1 k0_t34 v228 v257 k0_t40) S1x1x1x16x128.size (k0_off1058_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.1.2.2.2.2.2.2.2.2.2.2.2.2.2.1 k0_t40 (k0_off1058_inb v1 k0_t34 v228 v257 k0_hw21 k0_t40)
theorem k0_off1059_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1059 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.1.2.2.2.2.2.2.2.2.2.2.2.2.2.2.1 k0_t40
theorem k0_off1059_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1059 v1 k0_t34 v228 v257 k0_t40) S1x1x1x16x128.size (k0_off1059_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.1.2.2.2.2.2.2.2.2.2.2.2.2.2.2.2.1 k0_t40 (k0_off1059_inb v1 k0_t34 v228 v257 k0_hw21 k0_t40)
theorem k0_off1060_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1060 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.1.2.2.2.2.2.2.2.2.2.2.2.2.2.2.2.2.1 k0_t40
theorem k0_off1060_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1060 v1 k0_t34 v228 v257 k0_t40) S1x1x1x16x128.size (k0_off1060_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.1.2.2.2.2.2.2.2.2.2.2.2.2.2.2.2.2.2.1 k0_t40 (k0_off1060_inb v1 k0_t34 v228 v257 k0_hw21 k0_t40)
theorem k0_off1061_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1061 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.1.2.2.2.2.2.2.2.2.2.2.2.2.2.2.2.2.2.2.1 k0_t40
theorem k0_off1061_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1061 v1 k0_t34 v228 v257 k0_t40) S1x1x1x16x128.size (k0_off1061_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.1.2.2.2.2.2.2.2.2.2.2.2.2.2.2.2.2.2.2.2.1 k0_t40 (k0_off1061_inb v1 k0_t34 v228 v257 k0_hw21 k0_t40)
theorem k0_off1062_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1062 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.1.2.2.2.2.2.2.2.2.2.2.2.2.2.2.2.2.2.2.2.2.1 k0_t40
theorem k0_off1062_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1062 v1 k0_t34 v228 v257 k0_t40) S1x1x1x16x128.size (k0_off1062_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.1.2.2.2.2.2.2.2.2.2.2.2.2.2.2.2.2.2.2.2.2.2.1 k0_t40 (k0_off1062_inb v1 k0_t34 v228 v257 k0_hw21 k0_t40)
theorem k0_off1063_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1063 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.1.2.2.2.2.2.2.2.2.2.2.2.2.2.2.2.2.2.2.2.2.2.2.1 k0_t40
theorem k0_off1063_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1063 v1 k0_t34 v228 v257 k0_t40) S1x1x1x16x128.size (k0_off1063_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.1.2.2.2.2.2.2.2.2.2.2.2.2.2.2.2.2.2.2.2.2.2.2.2.1 k0_t40 (k0_off1063_inb v1 k0_t34 v228 v257 k0_hw21 k0_t40)
theorem k0_off1064_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1064 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.1.2.2.2.2.2.2.2.2.2.2.2.2.2.2.2.2.2.2.2.2.2.2.2.2.1 k0_t40
theorem k0_off1064_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1064 v1 k0_t34 v228 v257 k0_t40) S1x1x1x16x128.size (k0_off1064_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.1.2.2.2.2.2.2.2.2.2.2.2.2.2.2.2.2.2.2.2.2.2.2.2.2.2.1 k0_t40 (k0_off1064_inb v1 k0_t34 v228 v257 k0_hw21 k0_t40)
theorem k0_off1065_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1065 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.1.2.2.2.2.2.2.2.2.2.2.2.2.2.2.2.2.2.2.2.2.2.2.2.2.2.2.1 k0_t40
theorem k0_off1065_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1065 v1 k0_t34 v228 v257 k0_t40) S1x1x1x16x128.size (k0_off1065_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.1.2.2.2.2.2.2.2.2.2.2.2.2.2.2.2.2.2.2.2.2.2.2.2.2.2.2.2.1 k0_t40 (k0_off1065_inb v1 k0_t34 v228 v257 k0_hw21 k0_t40)
theorem k0_off1066_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1066 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.1.2.2.2.2.2.2.2.2.2.2.2.2.2.2.2.2.2.2.2.2.2.2.2.2.2.2.2.2.1 k0_t40
theorem k0_off1066_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1066 v1 k0_t34 v228 v257 k0_t40) S1x1x1x16x128.size (k0_off1066_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.1.2.2.2.2.2.2.2.2.2.2.2.2.2.2.2.2.2.2.2.2.2.2.2.2.2.2.2.2.2.1 k0_t40 (k0_off1066_inb v1 k0_t34 v228 v257 k0_hw21 k0_t40)
theorem k0_off1067_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1067 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.1.2.2.2.2.2.2.2.2.2.2.2.2.2.2.2.2.2.2.2.2.2.2.2.2.2.2.2.2.2.2.1 k0_t40
theorem k0_off1067_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1067 v1 k0_t34 v228 v257 k0_t40) S1x1x1x16x128.size (k0_off1067_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.1.2.2.2.2.2.2.2.2.2.2.2.2.2.2.2.2.2.2.2.2.2.2.2.2.2.2.2.2.2.2.2 k0_t40 (k0_off1067_inb v1 k0_t34 v228 v257 k0_hw21 k0_t40)
theorem k0_off1068_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1068 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.1.1 k0_t40
theorem k0_off1068_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1068 v1 k0_t34 v228 v257 k0_t40) S1x1x1x16x128.size (k0_off1068_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.1.2.1 k0_t40 (k0_off1068_inb v1 k0_t34 v228 v257 k0_hw21 k0_t40)
theorem k0_off1069_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1069 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.1.2.2.1 k0_t40
theorem k0_off1069_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1069 v1 k0_t34 v228 v257 k0_t40) S1x1x1x16x128.size (k0_off1069_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.1.2.2.2.1 k0_t40 (k0_off1069_inb v1 k0_t34 v228 v257 k0_hw21 k0_t40)
theorem k0_off1070_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1070 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.1.2.2.2.2.1 k0_t40
theorem k0_off1070_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1070 v1 k0_t34 v228 v257 k0_t40) S1x1x1x16x128.size (k0_off1070_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.1.2.2.2.2.2.1 k0_t40 (k0_off1070_inb v1 k0_t34 v228 v257 k0_hw21 k0_t40)
theorem k0_off1071_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1071 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.1.2.2.2.2.2.2.1 k0_t40
theorem k0_off1071_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1071 v1 k0_t34 v228 v257 k0_t40) S1x1x1x16x128.size (k0_off1071_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.1.2.2.2.2.2.2.2.1 k0_t40 (k0_off1071_inb v1 k0_t34 v228 v257 k0_hw21 k0_t40)
theorem k0_off1072_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1072 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.1.2.2.2.2.2.2.2.2.1 k0_t40
theorem k0_off1072_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1072 v1 k0_t34 v228 v257 k0_t40) S1x1x1x16x128.size (k0_off1072_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.1.2.2.2.2.2.2.2.2.2.1 k0_t40 (k0_off1072_inb v1 k0_t34 v228 v257 k0_hw21 k0_t40)
theorem k0_off1073_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1073 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.1.2.2.2.2.2.2.2.2.2.2.1 k0_t40
theorem k0_off1073_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1073 v1 k0_t34 v228 v257 k0_t40) S1x1x1x16x128.size (k0_off1073_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.1.2.2.2.2.2.2.2.2.2.2.2.1 k0_t40 (k0_off1073_inb v1 k0_t34 v228 v257 k0_hw21 k0_t40)
theorem k0_off1074_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1074 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.1.2.2.2.2.2.2.2.2.2.2.2.2.1 k0_t40
theorem k0_off1074_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1074 v1 k0_t34 v228 v257 k0_t40) S1x1x1x16x128.size (k0_off1074_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.1.2.2.2.2.2.2.2.2.2.2.2.2.2.1 k0_t40 (k0_off1074_inb v1 k0_t34 v228 v257 k0_hw21 k0_t40)
theorem k0_off1075_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1075 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.1.2.2.2.2.2.2.2.2.2.2.2.2.2.2.1 k0_t40
theorem k0_off1075_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1075 v1 k0_t34 v228 v257 k0_t40) S1x1x1x16x128.size (k0_off1075_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.1.2.2.2.2.2.2.2.2.2.2.2.2.2.2.2.1 k0_t40 (k0_off1075_inb v1 k0_t34 v228 v257 k0_hw21 k0_t40)
theorem k0_off1076_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1076 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.1.2.2.2.2.2.2.2.2.2.2.2.2.2.2.2.2.1 k0_t40
theorem k0_off1076_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1076 v1 k0_t34 v228 v257 k0_t40) S1x1x1x16x128.size (k0_off1076_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.1.2.2.2.2.2.2.2.2.2.2.2.2.2.2.2.2.2.1 k0_t40 (k0_off1076_inb v1 k0_t34 v228 v257 k0_hw21 k0_t40)
theorem k0_off1077_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1077 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.1.2.2.2.2.2.2.2.2.2.2.2.2.2.2.2.2.2.2.1 k0_t40
theorem k0_off1077_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1077 v1 k0_t34 v228 v257 k0_t40) S1x1x1x16x128.size (k0_off1077_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.1.2.2.2.2.2.2.2.2.2.2.2.2.2.2.2.2.2.2.2.1 k0_t40 (k0_off1077_inb v1 k0_t34 v228 v257 k0_hw21 k0_t40)
theorem k0_off1078_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1078 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.1.2.2.2.2.2.2.2.2.2.2.2.2.2.2.2.2.2.2.2.2.1 k0_t40
theorem k0_off1078_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1078 v1 k0_t34 v228 v257 k0_t40) S1x1x1x16x128.size (k0_off1078_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.1.2.2.2.2.2.2.2.2.2.2.2.2.2.2.2.2.2.2.2.2.2.1 k0_t40 (k0_off1078_inb v1 k0_t34 v228 v257 k0_hw21 k0_t40)
theorem k0_off1079_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1079 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.1.2.2.2.2.2.2.2.2.2.2.2.2.2.2.2.2.2.2.2.2.2.2.1 k0_t40
theorem k0_off1079_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1079 v1 k0_t34 v228 v257 k0_t40) S1x1x1x16x128.size (k0_off1079_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.1.2.2.2.2.2.2.2.2.2.2.2.2.2.2.2.2.2.2.2.2.2.2.2.1 k0_t40 (k0_off1079_inb v1 k0_t34 v228 v257 k0_hw21 k0_t40)
theorem k0_off1080_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1080 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.1.2.2.2.2.2.2.2.2.2.2.2.2.2.2.2.2.2.2.2.2.2.2.2.2.1 k0_t40
theorem k0_off1080_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1080 v1 k0_t34 v228 v257 k0_t40) S1x1x1x16x128.size (k0_off1080_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.1.2.2.2.2.2.2.2.2.2.2.2.2.2.2.2.2.2.2.2.2.2.2.2.2.2.1 k0_t40 (k0_off1080_inb v1 k0_t34 v228 v257 k0_hw21 k0_t40)
theorem k0_off1081_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1081 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.1.2.2.2.2.2.2.2.2.2.2.2.2.2.2.2.2.2.2.2.2.2.2.2.2.2.2.1 k0_t40
theorem k0_off1081_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1081 v1 k0_t34 v228 v257 k0_t40) S1x1x1x16x128.size (k0_off1081_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.1.2.2.2.2.2.2.2.2.2.2.2.2.2.2.2.2.2.2.2.2.2.2.2.2.2.2.2.1 k0_t40 (k0_off1081_inb v1 k0_t34 v228 v257 k0_hw21 k0_t40)
theorem k0_off1082_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1082 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.1.2.2.2.2.2.2.2.2.2.2.2.2.2.2.2.2.2.2.2.2.2.2.2.2.2.2.2.2.1 k0_t40
theorem k0_off1082_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1082 v1 k0_t34 v228 v257 k0_t40) S1x1x1x16x128.size (k0_off1082_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.1.2.2.2.2.2.2.2.2.2.2.2.2.2.2.2.2.2.2.2.2.2.2.2.2.2.2.2.2.2.1 k0_t40 (k0_off1082_inb v1 k0_t34 v228 v257 k0_hw21 k0_t40)
theorem k0_off1083_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1083 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.1.2.2.2.2.2.2.2.2.2.2.2.2.2.2.2.2.2.2.2.2.2.2.2.2.2.2.2.2.2.2.1 k0_t40
theorem k0_off1083_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1083 v1 k0_t34 v228 v257 k0_t40) S1x1x1x16x128.size (k0_off1083_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.1.2.2.2.2.2.2.2.2.2.2.2.2.2.2.2.2.2.2.2.2.2.2.2.2.2.2.2.2.2.2.2 k0_t40 (k0_off1083_inb v1 k0_t34 v228 v257 k0_hw21 k0_t40)
theorem k0_off1084_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1084 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.1.1 k0_t40
theorem k0_off1084_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1084 v1 k0_t34 v228 v257 k0_t40) S1x1x1x16x128.size (k0_off1084_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.1.2.1 k0_t40 (k0_off1084_inb v1 k0_t34 v228 v257 k0_hw21 k0_t40)
theorem k0_off1085_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1085 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.1.2.2.1 k0_t40
theorem k0_off1085_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1085 v1 k0_t34 v228 v257 k0_t40) S1x1x1x16x128.size (k0_off1085_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.1.2.2.2.1 k0_t40 (k0_off1085_inb v1 k0_t34 v228 v257 k0_hw21 k0_t40)
theorem k0_off1086_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1086 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.1.2.2.2.2.1 k0_t40
theorem k0_off1086_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1086 v1 k0_t34 v228 v257 k0_t40) S1x1x1x16x128.size (k0_off1086_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.1.2.2.2.2.2.1 k0_t40 (k0_off1086_inb v1 k0_t34 v228 v257 k0_hw21 k0_t40)
theorem k0_off1087_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1087 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.1.2.2.2.2.2.2.1 k0_t40
theorem k0_off1087_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1087 v1 k0_t34 v228 v257 k0_t40) S1x1x1x16x128.size (k0_off1087_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.1.2.2.2.2.2.2.2.1 k0_t40 (k0_off1087_inb v1 k0_t34 v228 v257 k0_hw21 k0_t40)
theorem k0_off1088_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1088 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.1.2.2.2.2.2.2.2.2.1 k0_t40
theorem k0_off1088_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1088 v1 k0_t34 v228 v257 k0_t40) S1x1x1x16x128.size (k0_off1088_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.1.2.2.2.2.2.2.2.2.2.1 k0_t40 (k0_off1088_inb v1 k0_t34 v228 v257 k0_hw21 k0_t40)
theorem k0_off1089_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1089 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.1.2.2.2.2.2.2.2.2.2.2.1 k0_t40
theorem k0_off1089_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1089 v1 k0_t34 v228 v257 k0_t40) S1x1x1x16x128.size (k0_off1089_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.1.2.2.2.2.2.2.2.2.2.2.2.1 k0_t40 (k0_off1089_inb v1 k0_t34 v228 v257 k0_hw21 k0_t40)
theorem k0_off1090_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1090 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.1.2.2.2.2.2.2.2.2.2.2.2.2.1 k0_t40
theorem k0_off1090_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1090 v1 k0_t34 v228 v257 k0_t40) S1x1x1x16x128.size (k0_off1090_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.1.2.2.2.2.2.2.2.2.2.2.2.2.2.1 k0_t40 (k0_off1090_inb v1 k0_t34 v228 v257 k0_hw21 k0_t40)
theorem k0_off1091_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1091 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.1.2.2.2.2.2.2.2.2.2.2.2.2.2.2.1 k0_t40
theorem k0_off1091_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1091 v1 k0_t34 v228 v257 k0_t40) S1x1x1x16x128.size (k0_off1091_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.1.2.2.2.2.2.2.2.2.2.2.2.2.2.2.2.1 k0_t40 (k0_off1091_inb v1 k0_t34 v228 v257 k0_hw21 k0_t40)
theorem k0_off1092_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1092 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.1.2.2.2.2.2.2.2.2.2.2.2.2.2.2.2.2.1 k0_t40
theorem k0_off1092_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1092 v1 k0_t34 v228 v257 k0_t40) S1x1x1x16x128.size (k0_off1092_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.1.2.2.2.2.2.2.2.2.2.2.2.2.2.2.2.2.2.1 k0_t40 (k0_off1092_inb v1 k0_t34 v228 v257 k0_hw21 k0_t40)
theorem k0_off1093_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1093 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.1.2.2.2.2.2.2.2.2.2.2.2.2.2.2.2.2.2.2.1 k0_t40
theorem k0_off1093_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1093 v1 k0_t34 v228 v257 k0_t40) S1x1x1x16x128.size (k0_off1093_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.1.2.2.2.2.2.2.2.2.2.2.2.2.2.2.2.2.2.2.2.1 k0_t40 (k0_off1093_inb v1 k0_t34 v228 v257 k0_hw21 k0_t40)
theorem k0_off1094_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1094 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.1.2.2.2.2.2.2.2.2.2.2.2.2.2.2.2.2.2.2.2.2.1 k0_t40
theorem k0_off1094_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1094 v1 k0_t34 v228 v257 k0_t40) S1x1x1x16x128.size (k0_off1094_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.1.2.2.2.2.2.2.2.2.2.2.2.2.2.2.2.2.2.2.2.2.2.1 k0_t40 (k0_off1094_inb v1 k0_t34 v228 v257 k0_hw21 k0_t40)
theorem k0_off1095_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1095 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.1.2.2.2.2.2.2.2.2.2.2.2.2.2.2.2.2.2.2.2.2.2.2.1 k0_t40
theorem k0_off1095_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1095 v1 k0_t34 v228 v257 k0_t40) S1x1x1x16x128.size (k0_off1095_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.1.2.2.2.2.2.2.2.2.2.2.2.2.2.2.2.2.2.2.2.2.2.2.2.1 k0_t40 (k0_off1095_inb v1 k0_t34 v228 v257 k0_hw21 k0_t40)
theorem k0_off1096_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1096 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.1.2.2.2.2.2.2.2.2.2.2.2.2.2.2.2.2.2.2.2.2.2.2.2.2.1 k0_t40
theorem k0_off1096_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1096 v1 k0_t34 v228 v257 k0_t40) S1x1x1x16x128.size (k0_off1096_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.1.2.2.2.2.2.2.2.2.2.2.2.2.2.2.2.2.2.2.2.2.2.2.2.2.2.1 k0_t40 (k0_off1096_inb v1 k0_t34 v228 v257 k0_hw21 k0_t40)
theorem k0_off1097_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1097 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.1.2.2.2.2.2.2.2.2.2.2.2.2.2.2.2.2.2.2.2.2.2.2.2.2.2.2.1 k0_t40
theorem k0_off1097_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1097 v1 k0_t34 v228 v257 k0_t40) S1x1x1x16x128.size (k0_off1097_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.1.2.2.2.2.2.2.2.2.2.2.2.2.2.2.2.2.2.2.2.2.2.2.2.2.2.2.2.1 k0_t40 (k0_off1097_inb v1 k0_t34 v228 v257 k0_hw21 k0_t40)
theorem k0_off1098_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1098 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.1.2.2.2.2.2.2.2.2.2.2.2.2.2.2.2.2.2.2.2.2.2.2.2.2.2.2.2.2.1 k0_t40
theorem k0_off1098_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1098 v1 k0_t34 v228 v257 k0_t40) S1x1x1x16x128.size (k0_off1098_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.1.2.2.2.2.2.2.2.2.2.2.2.2.2.2.2.2.2.2.2.2.2.2.2.2.2.2.2.2.2.1 k0_t40 (k0_off1098_inb v1 k0_t34 v228 v257 k0_hw21 k0_t40)
theorem k0_off1099_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1099 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.1.2.2.2.2.2.2.2.2.2.2.2.2.2.2.2.2.2.2.2.2.2.2.2.2.2.2.2.2.2.2.1 k0_t40
theorem k0_off1099_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1099 v1 k0_t34 v228 v257 k0_t40) S1x1x1x16x128.size (k0_off1099_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.1.2.2.2.2.2.2.2.2.2.2.2.2.2.2.2.2.2.2.2.2.2.2.2.2.2.2.2.2.2.2.2 k0_t40 (k0_off1099_inb v1 k0_t34 v228 v257 k0_hw21 k0_t40)
theorem k0_off1100_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1100 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.1.1 k0_t40
theorem k0_off1100_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1100 v1 k0_t34 v228 v257 k0_t40) S1x1x1x16x128.size (k0_off1100_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.1.2.1 k0_t40 (k0_off1100_inb v1 k0_t34 v228 v257 k0_hw21 k0_t40)
theorem k0_off1101_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1101 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.1.2.2.1 k0_t40
theorem k0_off1101_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1101 v1 k0_t34 v228 v257 k0_t40) S1x1x1x16x128.size (k0_off1101_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.1.2.2.2.1 k0_t40 (k0_off1101_inb v1 k0_t34 v228 v257 k0_hw21 k0_t40)
theorem k0_off1102_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1102 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.1.2.2.2.2.1 k0_t40
theorem k0_off1102_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1102 v1 k0_t34 v228 v257 k0_t40) S1x1x1x16x128.size (k0_off1102_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.1.2.2.2.2.2.1 k0_t40 (k0_off1102_inb v1 k0_t34 v228 v257 k0_hw21 k0_t40)
theorem k0_off1103_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1103 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.1.2.2.2.2.2.2.1 k0_t40
theorem k0_off1103_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1103 v1 k0_t34 v228 v257 k0_t40) S1x1x1x16x128.size (k0_off1103_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.1.2.2.2.2.2.2.2.1 k0_t40 (k0_off1103_inb v1 k0_t34 v228 v257 k0_hw21 k0_t40)
theorem k0_off1104_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1104 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.1.2.2.2.2.2.2.2.2.1 k0_t40
theorem k0_off1104_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1104 v1 k0_t34 v228 v257 k0_t40) S1x1x1x16x128.size (k0_off1104_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.1.2.2.2.2.2.2.2.2.2.1 k0_t40 (k0_off1104_inb v1 k0_t34 v228 v257 k0_hw21 k0_t40)
theorem k0_off1105_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1105 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.1.2.2.2.2.2.2.2.2.2.2.1 k0_t40
theorem k0_off1105_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1105 v1 k0_t34 v228 v257 k0_t40) S1x1x1x16x128.size (k0_off1105_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.1.2.2.2.2.2.2.2.2.2.2.2.1 k0_t40 (k0_off1105_inb v1 k0_t34 v228 v257 k0_hw21 k0_t40)
theorem k0_off1106_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1106 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.1.2.2.2.2.2.2.2.2.2.2.2.2.1 k0_t40
theorem k0_off1106_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1106 v1 k0_t34 v228 v257 k0_t40) S1x1x1x16x128.size (k0_off1106_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.1.2.2.2.2.2.2.2.2.2.2.2.2.2.1 k0_t40 (k0_off1106_inb v1 k0_t34 v228 v257 k0_hw21 k0_t40)
theorem k0_off1107_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1107 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.1.2.2.2.2.2.2.2.2.2.2.2.2.2.2.1 k0_t40
theorem k0_off1107_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1107 v1 k0_t34 v228 v257 k0_t40) S1x1x1x16x128.size (k0_off1107_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.1.2.2.2.2.2.2.2.2.2.2.2.2.2.2.2.1 k0_t40 (k0_off1107_inb v1 k0_t34 v228 v257 k0_hw21 k0_t40)
theorem k0_off1108_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1108 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.1.2.2.2.2.2.2.2.2.2.2.2.2.2.2.2.2.1 k0_t40
theorem k0_off1108_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1108 v1 k0_t34 v228 v257 k0_t40) S1x1x1x16x128.size (k0_off1108_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.1.2.2.2.2.2.2.2.2.2.2.2.2.2.2.2.2.2.1 k0_t40 (k0_off1108_inb v1 k0_t34 v228 v257 k0_hw21 k0_t40)
theorem k0_off1109_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1109 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.1.2.2.2.2.2.2.2.2.2.2.2.2.2.2.2.2.2.2.1 k0_t40
theorem k0_off1109_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1109 v1 k0_t34 v228 v257 k0_t40) S1x1x1x16x128.size (k0_off1109_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.1.2.2.2.2.2.2.2.2.2.2.2.2.2.2.2.2.2.2.2.1 k0_t40 (k0_off1109_inb v1 k0_t34 v228 v257 k0_hw21 k0_t40)
theorem k0_off1110_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1110 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.1.2.2.2.2.2.2.2.2.2.2.2.2.2.2.2.2.2.2.2.2.1 k0_t40
theorem k0_off1110_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1110 v1 k0_t34 v228 v257 k0_t40) S1x1x1x16x128.size (k0_off1110_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.1.2.2.2.2.2.2.2.2.2.2.2.2.2.2.2.2.2.2.2.2.2.1 k0_t40 (k0_off1110_inb v1 k0_t34 v228 v257 k0_hw21 k0_t40)
theorem k0_off1111_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1111 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.1.2.2.2.2.2.2.2.2.2.2.2.2.2.2.2.2.2.2.2.2.2.2.1 k0_t40
theorem k0_off1111_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1111 v1 k0_t34 v228 v257 k0_t40) S1x1x1x16x128.size (k0_off1111_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.1.2.2.2.2.2.2.2.2.2.2.2.2.2.2.2.2.2.2.2.2.2.2.2.1 k0_t40 (k0_off1111_inb v1 k0_t34 v228 v257 k0_hw21 k0_t40)
theorem k0_off1112_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1112 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.1.2.2.2.2.2.2.2.2.2.2.2.2.2.2.2.2.2.2.2.2.2.2.2.2.1 k0_t40
theorem k0_off1112_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1112 v1 k0_t34 v228 v257 k0_t40) S1x1x1x16x128.size (k0_off1112_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.1.2.2.2.2.2.2.2.2.2.2.2.2.2.2.2.2.2.2.2.2.2.2.2.2.2.1 k0_t40 (k0_off1112_inb v1 k0_t34 v228 v257 k0_hw21 k0_t40)
theorem k0_off1113_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1113 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.1.2.2.2.2.2.2.2.2.2.2.2.2.2.2.2.2.2.2.2.2.2.2.2.2.2.2.1 k0_t40
theorem k0_off1113_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1113 v1 k0_t34 v228 v257 k0_t40) S1x1x1x16x128.size (k0_off1113_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.1.2.2.2.2.2.2.2.2.2.2.2.2.2.2.2.2.2.2.2.2.2.2.2.2.2.2.2.1 k0_t40 (k0_off1113_inb v1 k0_t34 v228 v257 k0_hw21 k0_t40)
theorem k0_off1114_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1114 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.1.2.2.2.2.2.2.2.2.2.2.2.2.2.2.2.2.2.2.2.2.2.2.2.2.2.2.2.2.1 k0_t40
theorem k0_off1114_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1114 v1 k0_t34 v228 v257 k0_t40) S1x1x1x16x128.size (k0_off1114_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.1.2.2.2.2.2.2.2.2.2.2.2.2.2.2.2.2.2.2.2.2.2.2.2.2.2.2.2.2.2.1 k0_t40 (k0_off1114_inb v1 k0_t34 v228 v257 k0_hw21 k0_t40)
theorem k0_off1115_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1115 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.1.2.2.2.2.2.2.2.2.2.2.2.2.2.2.2.2.2.2.2.2.2.2.2.2.2.2.2.2.2.2.1 k0_t40
theorem k0_off1115_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1115 v1 k0_t34 v228 v257 k0_t40) S1x1x1x16x128.size (k0_off1115_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.1.2.2.2.2.2.2.2.2.2.2.2.2.2.2.2.2.2.2.2.2.2.2.2.2.2.2.2.2.2.2.2 k0_t40 (k0_off1115_inb v1 k0_t34 v228 v257 k0_hw21 k0_t40)
theorem k0_off1116_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1116 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.1.1 k0_t40
theorem k0_off1116_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1116 v1 k0_t34 v228 v257 k0_t40) S1x1x1x16x128.size (k0_off1116_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.1.2.1 k0_t40 (k0_off1116_inb v1 k0_t34 v228 v257 k0_hw21 k0_t40)
theorem k0_off1117_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1117 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.1.2.2.1 k0_t40
theorem k0_off1117_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1117 v1 k0_t34 v228 v257 k0_t40) S1x1x1x16x128.size (k0_off1117_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.1.2.2.2.1 k0_t40 (k0_off1117_inb v1 k0_t34 v228 v257 k0_hw21 k0_t40)
theorem k0_off1118_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1118 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.1.2.2.2.2.1 k0_t40
theorem k0_off1118_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1118 v1 k0_t34 v228 v257 k0_t40) S1x1x1x16x128.size (k0_off1118_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.1.2.2.2.2.2.1 k0_t40 (k0_off1118_inb v1 k0_t34 v228 v257 k0_hw21 k0_t40)
theorem k0_off1119_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1119 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.1.2.2.2.2.2.2.1 k0_t40
theorem k0_off1119_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1119 v1 k0_t34 v228 v257 k0_t40) S1x1x1x16x128.size (k0_off1119_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.1.2.2.2.2.2.2.2.1 k0_t40 (k0_off1119_inb v1 k0_t34 v228 v257 k0_hw21 k0_t40)
theorem k0_off1120_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1120 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.1.2.2.2.2.2.2.2.2.1 k0_t40
theorem k0_off1120_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1120 v1 k0_t34 v228 v257 k0_t40) S1x1x1x16x128.size (k0_off1120_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.1.2.2.2.2.2.2.2.2.2.1 k0_t40 (k0_off1120_inb v1 k0_t34 v228 v257 k0_hw21 k0_t40)
theorem k0_off1121_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1121 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.1.2.2.2.2.2.2.2.2.2.2.1 k0_t40
theorem k0_off1121_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1121 v1 k0_t34 v228 v257 k0_t40) S1x1x1x16x128.size (k0_off1121_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.1.2.2.2.2.2.2.2.2.2.2.2.1 k0_t40 (k0_off1121_inb v1 k0_t34 v228 v257 k0_hw21 k0_t40)
theorem k0_off1122_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1122 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.1.2.2.2.2.2.2.2.2.2.2.2.2.1 k0_t40
theorem k0_off1122_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1122 v1 k0_t34 v228 v257 k0_t40) S1x1x1x16x128.size (k0_off1122_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.1.2.2.2.2.2.2.2.2.2.2.2.2.2.1 k0_t40 (k0_off1122_inb v1 k0_t34 v228 v257 k0_hw21 k0_t40)
theorem k0_off1123_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1123 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.1.2.2.2.2.2.2.2.2.2.2.2.2.2.2.1 k0_t40
theorem k0_off1123_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1123 v1 k0_t34 v228 v257 k0_t40) S1x1x1x16x128.size (k0_off1123_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.1.2.2.2.2.2.2.2.2.2.2.2.2.2.2.2.1 k0_t40 (k0_off1123_inb v1 k0_t34 v228 v257 k0_hw21 k0_t40)
theorem k0_off1124_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1124 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.1.2.2.2.2.2.2.2.2.2.2.2.2.2.2.2.2.1 k0_t40
theorem k0_off1124_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1124 v1 k0_t34 v228 v257 k0_t40) S1x1x1x16x128.size (k0_off1124_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.1.2.2.2.2.2.2.2.2.2.2.2.2.2.2.2.2.2.1 k0_t40 (k0_off1124_inb v1 k0_t34 v228 v257 k0_hw21 k0_t40)
theorem k0_off1125_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1125 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.1.2.2.2.2.2.2.2.2.2.2.2.2.2.2.2.2.2.2.1 k0_t40
theorem k0_off1125_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1125 v1 k0_t34 v228 v257 k0_t40) S1x1x1x16x128.size (k0_off1125_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.1.2.2.2.2.2.2.2.2.2.2.2.2.2.2.2.2.2.2.2.1 k0_t40 (k0_off1125_inb v1 k0_t34 v228 v257 k0_hw21 k0_t40)
theorem k0_off1126_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1126 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.1.2.2.2.2.2.2.2.2.2.2.2.2.2.2.2.2.2.2.2.2.1 k0_t40
theorem k0_off1126_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1126 v1 k0_t34 v228 v257 k0_t40) S1x1x1x16x128.size (k0_off1126_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.1.2.2.2.2.2.2.2.2.2.2.2.2.2.2.2.2.2.2.2.2.2.1 k0_t40 (k0_off1126_inb v1 k0_t34 v228 v257 k0_hw21 k0_t40)
theorem k0_off1127_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1127 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.1.2.2.2.2.2.2.2.2.2.2.2.2.2.2.2.2.2.2.2.2.2.2.1 k0_t40
theorem k0_off1127_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1127 v1 k0_t34 v228 v257 k0_t40) S1x1x1x16x128.size (k0_off1127_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.1.2.2.2.2.2.2.2.2.2.2.2.2.2.2.2.2.2.2.2.2.2.2.2.1 k0_t40 (k0_off1127_inb v1 k0_t34 v228 v257 k0_hw21 k0_t40)
theorem k0_off1128_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1128 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.1.2.2.2.2.2.2.2.2.2.2.2.2.2.2.2.2.2.2.2.2.2.2.2.2.1 k0_t40
theorem k0_off1128_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1128 v1 k0_t34 v228 v257 k0_t40) S1x1x1x16x128.size (k0_off1128_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.1.2.2.2.2.2.2.2.2.2.2.2.2.2.2.2.2.2.2.2.2.2.2.2.2.2.1 k0_t40 (k0_off1128_inb v1 k0_t34 v228 v257 k0_hw21 k0_t40)
theorem k0_off1129_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1129 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.1.2.2.2.2.2.2.2.2.2.2.2.2.2.2.2.2.2.2.2.2.2.2.2.2.2.2.1 k0_t40
theorem k0_off1129_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1129 v1 k0_t34 v228 v257 k0_t40) S1x1x1x16x128.size (k0_off1129_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.1.2.2.2.2.2.2.2.2.2.2.2.2.2.2.2.2.2.2.2.2.2.2.2.2.2.2.2.1 k0_t40 (k0_off1129_inb v1 k0_t34 v228 v257 k0_hw21 k0_t40)
theorem k0_off1130_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1130 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.1.2.2.2.2.2.2.2.2.2.2.2.2.2.2.2.2.2.2.2.2.2.2.2.2.2.2.2.2.1 k0_t40
theorem k0_off1130_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1130 v1 k0_t34 v228 v257 k0_t40) S1x1x1x16x128.size (k0_off1130_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.1.2.2.2.2.2.2.2.2.2.2.2.2.2.2.2.2.2.2.2.2.2.2.2.2.2.2.2.2.2.1 k0_t40 (k0_off1130_inb v1 k0_t34 v228 v257 k0_hw21 k0_t40)
theorem k0_off1131_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1131 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t40
theorem k0_off1131_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1131 v1 k0_t34 v228 v257 k0_t40) S1x1x1x16x128.size (k0_off1131_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t40 (k0_off1131_inb v1 k0_t34 v228 v257 k0_hw21 k0_t40)
theorem k0_off1132_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1132 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.1.1 k0_t40
theorem k0_off1132_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1132 v1 k0_t34 v228 v257 k0_t40) S1x1x1x16x128.size (k0_off1132_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.1.2.1 k0_t40 (k0_off1132_inb v1 k0_t34 v228 v257 k0_hw21 k0_t40)
theorem k0_off1133_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1133 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.1.2.2.1 k0_t40
theorem k0_off1133_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1133 v1 k0_t34 v228 v257 k0_t40) S1x1x1x16x128.size (k0_off1133_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.1.2.2.2.1 k0_t40 (k0_off1133_inb v1 k0_t34 v228 v257 k0_hw21 k0_t40)
theorem k0_off1134_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1134 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.1.2.2.2.2.1 k0_t40
theorem k0_off1134_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1134 v1 k0_t34 v228 v257 k0_t40) S1x1x1x16x128.size (k0_off1134_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.1.2.2.2.2.2.1 k0_t40 (k0_off1134_inb v1 k0_t34 v228 v257 k0_hw21 k0_t40)
theorem k0_off1135_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1135 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.1.2.2.2.2.2.2.1 k0_t40
theorem k0_off1135_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1135 v1 k0_t34 v228 v257 k0_t40) S1x1x1x16x128.size (k0_off1135_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.1.2.2.2.2.2.2.2.1 k0_t40 (k0_off1135_inb v1 k0_t34 v228 v257 k0_hw21 k0_t40)
theorem k0_off1136_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1136 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.1.2.2.2.2.2.2.2.2.1 k0_t40
theorem k0_off1136_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1136 v1 k0_t34 v228 v257 k0_t40) S1x1x1x16x128.size (k0_off1136_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.1.2.2.2.2.2.2.2.2.2.1 k0_t40 (k0_off1136_inb v1 k0_t34 v228 v257 k0_hw21 k0_t40)
theorem k0_off1137_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1137 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.1.2.2.2.2.2.2.2.2.2.2.1 k0_t40
theorem k0_off1137_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1137 v1 k0_t34 v228 v257 k0_t40) S1x1x1x16x128.size (k0_off1137_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.1.2.2.2.2.2.2.2.2.2.2.2.1 k0_t40 (k0_off1137_inb v1 k0_t34 v228 v257 k0_hw21 k0_t40)
theorem k0_off1138_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1138 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.1.2.2.2.2.2.2.2.2.2.2.2.2.1 k0_t40
theorem k0_off1138_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1138 v1 k0_t34 v228 v257 k0_t40) S1x1x1x16x128.size (k0_off1138_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.1.2.2.2.2.2.2.2.2.2.2.2.2.2.1 k0_t40 (k0_off1138_inb v1 k0_t34 v228 v257 k0_hw21 k0_t40)
theorem k0_off1139_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1139 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.1.2.2.2.2.2.2.2.2.2.2.2.2.2.2.1 k0_t40
theorem k0_off1139_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1139 v1 k0_t34 v228 v257 k0_t40) S1x1x1x16x128.size (k0_off1139_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.1.2.2.2.2.2.2.2.2.2.2.2.2.2.2.2.1 k0_t40 (k0_off1139_inb v1 k0_t34 v228 v257 k0_hw21 k0_t40)
theorem k0_off1140_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1140 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.1.2.2.2.2.2.2.2.2.2.2.2.2.2.2.2.2.1 k0_t40
theorem k0_off1140_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1140 v1 k0_t34 v228 v257 k0_t40) S1x1x1x16x128.size (k0_off1140_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.1.2.2.2.2.2.2.2.2.2.2.2.2.2.2.2.2.2.1 k0_t40 (k0_off1140_inb v1 k0_t34 v228 v257 k0_hw21 k0_t40)
theorem k0_off1141_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1141 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.1.2.2.2.2.2.2.2.2.2.2.2.2.2.2.2.2.2.2.1 k0_t40
theorem k0_off1141_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1141 v1 k0_t34 v228 v257 k0_t40) S1x1x1x16x128.size (k0_off1141_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.1.2.2.2.2.2.2.2.2.2.2.2.2.2.2.2.2.2.2.2.1 k0_t40 (k0_off1141_inb v1 k0_t34 v228 v257 k0_hw21 k0_t40)
theorem k0_off1142_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1142 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.1.2.2.2.2.2.2.2.2.2.2.2.2.2.2.2.2.2.2.2.2.1 k0_t40
theorem k0_off1142_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1142 v1 k0_t34 v228 v257 k0_t40) S1x1x1x16x128.size (k0_off1142_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.1.2.2.2.2.2.2.2.2.2.2.2.2.2.2.2.2.2.2.2.2.2.1 k0_t40 (k0_off1142_inb v1 k0_t34 v228 v257 k0_hw21 k0_t40)
theorem k0_off1143_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1143 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.1.2.2.2.2.2.2.2.2.2.2.2.2.2.2.2.2.2.2.2.2.2.2.1 k0_t40
theorem k0_off1143_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1143 v1 k0_t34 v228 v257 k0_t40) S1x1x1x16x128.size (k0_off1143_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.1.2.2.2.2.2.2.2.2.2.2.2.2.2.2.2.2.2.2.2.2.2.2.2.1 k0_t40 (k0_off1143_inb v1 k0_t34 v228 v257 k0_hw21 k0_t40)
theorem k0_off1144_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1144 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.1.2.2.2.2.2.2.2.2.2.2.2.2.2.2.2.2.2.2.2.2.2.2.2.2.1 k0_t40
theorem k0_off1144_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1144 v1 k0_t34 v228 v257 k0_t40) S1x1x1x16x128.size (k0_off1144_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.1.2.2.2.2.2.2.2.2.2.2.2.2.2.2.2.2.2.2.2.2.2.2.2.2.2.1 k0_t40 (k0_off1144_inb v1 k0_t34 v228 v257 k0_hw21 k0_t40)
theorem k0_off1145_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1145 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.1.2.2.2.2.2.2.2.2.2.2.2.2.2.2.2.2.2.2.2.2.2.2.2.2.2.2.1 k0_t40
theorem k0_off1145_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1145 v1 k0_t34 v228 v257 k0_t40) S1x1x1x16x128.size (k0_off1145_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.1.2.2.2.2.2.2.2.2.2.2.2.2.2.2.2.2.2.2.2.2.2.2.2.2.2.2.2.1 k0_t40 (k0_off1145_inb v1 k0_t34 v228 v257 k0_hw21 k0_t40)
theorem k0_off1146_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1146 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.1.2.2.2.2.2.2.2.2.2.2.2.2.2.2.2.2.2.2.2.2.2.2.2.2.2.2.2.2.1 k0_t40
theorem k0_off1146_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1146 v1 k0_t34 v228 v257 k0_t40) S1x1x1x16x128.size (k0_off1146_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t40 (k0_off1146_inb v1 k0_t34 v228 v257 k0_hw21 k0_t40)
theorem k0_off1147_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1147 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t40
theorem k0_off1147_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1147 v1 k0_t34 v228 v257 k0_t40) S1x1x1x16x128.size (k0_off1147_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t40 (k0_off1147_inb v1 k0_t34 v228 v257 k0_hw21 k0_t40)
theorem k0_off1148_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1148 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.2.1.1 k0_t40
theorem k0_off1148_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1148 v1 k0_t34 v228 v257 k0_t40) S1x1x1x16x128.size (k0_off1148_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.2.1.2.1 k0_t40 (k0_off1148_inb v1 k0_t34 v228 v257 k0_hw21 k0_t40)
theorem k0_off1149_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1149 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.2.1.2.2.1 k0_t40
theorem k0_off1149_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1149 v1 k0_t34 v228 v257 k0_t40) S1x1x1x16x128.size (k0_off1149_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.2.1.2.2.2.1 k0_t40 (k0_off1149_inb v1 k0_t34 v228 v257 k0_hw21 k0_t40)
theorem k0_off1150_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1150 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.2.1.2.2.2.2.1 k0_t40
theorem k0_off1150_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1150 v1 k0_t34 v228 v257 k0_t40) S1x1x1x16x128.size (k0_off1150_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.2.1.2.2.2.2.2.1 k0_t40 (k0_off1150_inb v1 k0_t34 v228 v257 k0_hw21 k0_t40)
theorem k0_off1151_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1151 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.2.1.2.2.2.2.2.2.1 k0_t40
theorem k0_off1151_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1151 v1 k0_t34 v228 v257 k0_t40) S1x1x1x16x128.size (k0_off1151_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.2.1.2.2.2.2.2.2.2.1 k0_t40 (k0_off1151_inb v1 k0_t34 v228 v257 k0_hw21 k0_t40)
theorem k0_off1152_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1152 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.2.1.2.2.2.2.2.2.2.2.1 k0_t40
theorem k0_off1152_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1152 v1 k0_t34 v228 v257 k0_t40) S1x1x1x16x128.size (k0_off1152_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.2.1.2.2.2.2.2.2.2.2.2.1 k0_t40 (k0_off1152_inb v1 k0_t34 v228 v257 k0_hw21 k0_t40)
theorem k0_off1153_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1153 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.2.1.2.2.2.2.2.2.2.2.2.2.1 k0_t40
theorem k0_off1153_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1153 v1 k0_t34 v228 v257 k0_t40) S1x1x1x16x128.size (k0_off1153_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.2.1.2.2.2.2.2.2.2.2.2.2.2.1 k0_t40 (k0_off1153_inb v1 k0_t34 v228 v257 k0_hw21 k0_t40)
theorem k0_off1154_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1154 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.2.1.2.2.2.2.2.2.2.2.2.2.2.2.1 k0_t40
theorem k0_off1154_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1154 v1 k0_t34 v228 v257 k0_t40) S1x1x1x16x128.size (k0_off1154_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.2.1.2.2.2.2.2.2.2.2.2.2.2.2.2.1 k0_t40 (k0_off1154_inb v1 k0_t34 v228 v257 k0_hw21 k0_t40)
theorem k0_off1155_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1155 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.2.1.2.2.2.2.2.2.2.2.2.2.2.2.2.2.1 k0_t40
theorem k0_off1155_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1155 v1 k0_t34 v228 v257 k0_t40) S1x1x1x16x128.size (k0_off1155_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.2.1.2.2.2.2.2.2.2.2.2.2.2.2.2.2.2.1 k0_t40 (k0_off1155_inb v1 k0_t34 v228 v257 k0_hw21 k0_t40)
theorem k0_off1156_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1156 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.2.1.2.2.2.2.2.2.2.2.2.2.2.2.2.2.2.2.1 k0_t40
theorem k0_off1156_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1156 v1 k0_t34 v228 v257 k0_t40) S1x1x1x16x128.size (k0_off1156_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.2.1.2.2.2.2.2.2.2.2.2.2.2.2.2.2.2.2.2.1 k0_t40 (k0_off1156_inb v1 k0_t34 v228 v257 k0_hw21 k0_t40)
theorem k0_off1157_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1157 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.2.1.2.2.2.2.2.2.2.2.2.2.2.2.2.2.2.2.2.2.1 k0_t40
theorem k0_off1157_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1157 v1 k0_t34 v228 v257 k0_t40) S1x1x1x16x128.size (k0_off1157_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.2.1.2.2.2.2.2.2.2.2.2.2.2.2.2.2.2.2.2.2.2.1 k0_t40 (k0_off1157_inb v1 k0_t34 v228 v257 k0_hw21 k0_t40)
theorem k0_off1158_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1158 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.2.1.2.2.2.2.2.2.2.2.2.2.2.2.2.2.2.2.2.2.2.2.1 k0_t40
theorem k0_off1158_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1158 v1 k0_t34 v228 v257 k0_t40) S1x1x1x16x128.size (k0_off1158_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.2.1.2.2.2.2.2.2.2.2.2.2.2.2.2.2.2.2.2.2.2.2.2.1 k0_t40 (k0_off1158_inb v1 k0_t34 v228 v257 k0_hw21 k0_t40)
theorem k0_off1159_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1159 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.2.1.2.2.2.2.2.2.2.2.2.2.2.2.2.2.2.2.2.2.2.2.2.2.1 k0_t40
theorem k0_off1159_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1159 v1 k0_t34 v228 v257 k0_t40) S1x1x1x16x128.size (k0_off1159_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.2.1.2.2.2.2.2.2.2.2.2.2.2.2.2.2.2.2.2.2.2.2.2.2.2.1 k0_t40 (k0_off1159_inb v1 k0_t34 v228 v257 k0_hw21 k0_t40)
theorem k0_off1160_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1160 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.2.1.2.2.2.2.2.2.2.2.2.2.2.2.2.2.2.2.2.2.2.2.2.2.2.2.1 k0_t40
theorem k0_off1160_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1160 v1 k0_t34 v228 v257 k0_t40) S1x1x1x16x128.size (k0_off1160_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.2.1.2.2.2.2.2.2.2.2.2.2.2.2.2.2.2.2.2.2.2.2.2.2.2.2.2.1 k0_t40 (k0_off1160_inb v1 k0_t34 v228 v257 k0_hw21 k0_t40)
theorem k0_off1161_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1161 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.2.1.2.2.2.2.2.2.2.2.2.2.2.2.2.2.2.2.2.2.2.2.2.2.2.2.2.2.1 k0_t40
theorem k0_off1161_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1161 v1 k0_t34 v228 v257 k0_t40) S1x1x1x16x128.size (k0_off1161_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.2.1.2.2.2.2.2.2.2.2.2.2.2.2.2.2.2.2.2.2.2.2.2.2.2.2.2.2.2.1 k0_t40 (k0_off1161_inb v1 k0_t34 v228 v257 k0_hw21 k0_t40)
theorem k0_off1162_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1162 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t40
theorem k0_off1162_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1162 v1 k0_t34 v228 v257 k0_t40) S1x1x1x16x128.size (k0_off1162_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t40 (k0_off1162_inb v1 k0_t34 v228 v257 k0_hw21 k0_t40)
theorem k0_off1163_inb : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), ∀ a, (k0_off1163 v1 k0_t34 v228 v257 k0_t40) a + S1x1x1x16x128.size a ≤ S2x2x108x128x128.size a := fun v1 k0_t34 v228 v257 k0_hw21 k0_t40 => k0_hw21.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t40
theorem k0_off1163_packedbf16 : ∀ (v1 : BitVec 32) (k0_t34 : Fin (k0_t34_loop v1).trips) (v228 : BitVec 32) (v257 : BitVec 32) (k0_hw21 : k0_chk21 v1 k0_t34 v228 v257) (k0_t40 : Fin (k0_t40_loop v228 v257).trips), (Rect.unit (s := S2x2x108x128x128) (k0_off1163 v1 k0_t34 v228 v257 k0_t40) S1x1x1x16x128.size (k0_off1163_inb v1 k0_t34 v228 v257 k0_hw21 k0_t40)).PackedRows (EltTy.packing .bf16) := fun v1 k0_t34 v228 v257 k0_hw21 k0_t40 => k0_hw21.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t40 (k0_off1163_inb v1 k0_t34 v228 v257 k0_hw21 k0_t40)
theorem k0_t43_ok : ∀ (v1 : BitVec 32) (k0_t34 : Fin (k0_t34_loop v1).trips) (v228 : BitVec 32) (v257 : BitVec 32) (k0_hw21 : k0_chk21 v1 k0_t34 v228 v257), (k0_t43_loop v228 v257).OK := fun v1 k0_t34 v228 v257 k0_hw21 => k0_hw21.2.2.2.2.2.2.2.2.2.2.2.2.2.2.2.2.2.2.2.2.2.2.2.2.2.2.2.2.2.2.2.1.1
theorem k0_off1177_inb : ∀ (v1 : BitVec 32) (k0_t34 : Fin (k0_t34_loop v1).trips) (v228 : BitVec 32) (v257 : BitVec 32) (k0_hw21 : k0_chk21 v1 k0_t34 v228 v257) (k0_t43 : Fin (k0_t43_loop v228 v257).trips), ∀ a, (k0_off1177 v1 k0_t34) a + S1x1.size a ≤ S2x2.size a := fun v1 k0_t34 v228 v257 k0_hw21 k0_t43 => k0_hw21.2.2.2.2.2.2.2.2.2.2.2.2.2.2.2.2.2.2.2.2.2.2.2.2.2.2.2.2.2.2.2.1.2.1 k0_t43
theorem k0_off1178_inb : ∀ (v1 : BitVec 32) (k0_t34 : Fin (k0_t34_loop v1).trips) (v228 : BitVec 32) (v257 : BitVec 32) (k0_hw21 : k0_chk21 v1 k0_t34 v228 v257) (k0_t43 : Fin (k0_t43_loop v228 v257).trips), ∀ a, (k0_off1178 v1 k0_t34 v228 v257 k0_t43) a + S1x1x1x1728x128.size a ≤ S2x2x8x1728x128.size a := fun v1 k0_t34 v228 v257 k0_hw21 k0_t43 => k0_hw21.2.2.2.2.2.2.2.2.2.2.2.2.2.2.2.2.2.2.2.2.2.2.2.2.2.2.2.2.2.2.2.1.2.2.1 k0_t43
theorem k0_off1178_wordsfp8e4m3 : ∀ (v1 : BitVec 32) (k0_t34 : Fin (k0_t34_loop v1).trips) (v228 : BitVec 32) (v257 : BitVec 32) (k0_hw21 : k0_chk21 v1 k0_t34 v228 v257) (k0_t43 : Fin (k0_t43_loop v228 v257).trips), (Rect.unit (s := S2x2x8x1728x128) (k0_off1178 v1 k0_t34 v228 v257 k0_t43) S1x1x1x1728x128.size (k0_off1178_inb v1 k0_t34 v228 v257 k0_hw21 k0_t43)).WholeWords (EltTy.packing .fp8e4m3) := fun v1 k0_t34 v228 v257 k0_hw21 k0_t43 => k0_hw21.2.2.2.2.2.2.2.2.2.2.2.2.2.2.2.2.2.2.2.2.2.2.2.2.2.2.2.2.2.2.2.1.2.2.2.1 k0_t43 (k0_off1178_inb v1 k0_t34 v228 v257 k0_hw21 k0_t43)
theorem k0_t44_ok : ∀ (v1 : BitVec 32) (k0_t34 : Fin (k0_t34_loop v1).trips) (v228 : BitVec 32) (v257 : BitVec 32) (k0_hw21 : k0_chk21 v1 k0_t34 v228 v257), (k0_t44_loop v228 v257).OK := fun v1 k0_t34 v228 v257 k0_hw21 => k0_hw21.2.2.2.2.2.2.2.2.2.2.2.2.2.2.2.2.2.2.2.2.2.2.2.2.2.2.2.2.2.2.2.1.2.2.2.2.1
theorem k0_off1179_inb : ∀ (v1 : BitVec 32) (k0_t34 : Fin (k0_t34_loop v1).trips) (v228 : BitVec 32) (v257 : BitVec 32) (k0_hw21 : k0_chk21 v1 k0_t34 v228 v257) (k0_t44 : Fin (k0_t44_loop v228 v257).trips), ∀ a, (k0_off1179 v1 k0_t34) a + S1x1.size a ≤ S2x2.size a := fun v1 k0_t34 v228 v257 k0_hw21 k0_t44 => k0_hw21.2.2.2.2.2.2.2.2.2.2.2.2.2.2.2.2.2.2.2.2.2.2.2.2.2.2.2.2.2.2.2.1.2.2.2.2.2.1 k0_t44
theorem k0_off1180_inb : ∀ (v1 : BitVec 32) (k0_t34 : Fin (k0_t34_loop v1).trips) (v228 : BitVec 32) (v257 : BitVec 32) (k0_hw21 : k0_chk21 v1 k0_t34 v228 v257) (k0_t44 : Fin (k0_t44_loop v228 v257).trips), ∀ a, (k0_off1180 v1 k0_t34 v228 v257 k0_t44) a + S1x1x1x1728x128.size a ≤ S2x2x8x1728x128.size a := fun v1 k0_t34 v228 v257 k0_hw21 k0_t44 => k0_hw21.2.2.2.2.2.2.2.2.2.2.2.2.2.2.2.2.2.2.2.2.2.2.2.2.2.2.2.2.2.2.2.1.2.2.2.2.2.2.1 k0_t44
theorem k0_off1180_wordsfp8e4m3 : ∀ (v1 : BitVec 32) (k0_t34 : Fin (k0_t34_loop v1).trips) (v228 : BitVec 32) (v257 : BitVec 32) (k0_hw21 : k0_chk21 v1 k0_t34 v228 v257) (k0_t44 : Fin (k0_t44_loop v228 v257).trips), (Rect.unit (s := S2x2x8x1728x128) (k0_off1180 v1 k0_t34 v228 v257 k0_t44) S1x1x1x1728x128.size (k0_off1180_inb v1 k0_t34 v228 v257 k0_hw21 k0_t44)).WholeWords (EltTy.packing .fp8e4m3) := fun v1 k0_t34 v228 v257 k0_hw21 k0_t44 => k0_hw21.2.2.2.2.2.2.2.2.2.2.2.2.2.2.2.2.2.2.2.2.2.2.2.2.2.2.2.2.2.2.2.1.2.2.2.2.2.2.2.1 k0_t44 (k0_off1180_inb v1 k0_t34 v228 v257 k0_hw21 k0_t44)
theorem k0_t45_ok : ∀ (v1 : BitVec 32) (k0_t34 : Fin (k0_t34_loop v1).trips) (v228 : BitVec 32) (v257 : BitVec 32) (k0_hw21 : k0_chk21 v1 k0_t34 v228 v257), (k0_t45_loop v228 v257).OK := fun v1 k0_t34 v228 v257 k0_hw21 => k0_hw21.2.2.2.2.2.2.2.2.2.2.2.2.2.2.2.2.2.2.2.2.2.2.2.2.2.2.2.2.2.2.2.1.2.2.2.2.2.2.2.2.1
theorem k0_off1183_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1183 v228 v257 k0_t45) a + S1x1.size a ≤ S8x128.size a := fun v1 k0_t34 v228 v257 k0_hw21 k0_t45 => k0_hw21.2.2.2.2.2.2.2.2.2.2.2.2.2.2.2.2.2.2.2.2.2.2.2.2.2.2.2.2.2.2.2.1.2.2.2.2.2.2.2.2.2.1 k0_t45
theorem k0_off1184_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1184 v228) a + S1.size a ≤ S8.size a := fun v1 k0_t34 v228 v257 k0_hw21 k0_t45 => k0_hw21.2.2.2.2.2.2.2.2.2.2.2.2.2.2.2.2.2.2.2.2.2.2.2.2.2.2.2.2.2.2.2.1.2.2.2.2.2.2.2.2.2.2.1 k0_t45
theorem k0_mult12_dvd : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), 16 ∣ (k0_mult12 v228 v257 k0_t45).toNat := fun v1 k0_t34 v228 v257 k0_hw21 k0_t45 => k0_hw21.2.2.2.2.2.2.2.2.2.2.2.2.2.2.2.2.2.2.2.2.2.2.2.2.2.2.2.2.2.2.2.1.2.2.2.2.2.2.2.2.2.2.2.1 k0_t45
theorem k0_off1185_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1185 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.1.2.2.2.2.2.2.2.2.2.2.2.2.1 k0_t45
theorem k0_off1187_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1187 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.1.2.2.2.2.2.2.2.2.2.2.2.2.2.1 k0_t45
theorem k0_off1187_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1187 v1 k0_t34 v228 v257 k0_t45) S1x1x1x16x128.size (k0_off1187_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.1.2.2.2.2.2.2.2.2.2.2.2.2.2.2.1 k0_t45 (k0_off1187_inb v1 k0_t34 v228 v257 k0_hw21 k0_t45)
theorem k0_off1189_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1189 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.1.2.2.2.2.2.2.2.2.2.2.2.2.2.2.2.1 k0_t45
theorem k0_off1189_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1189 v1 k0_t34 v228 v257 k0_t45) S1x1x1x16x128.size (k0_off1189_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.1.2.2.2.2.2.2.2.2.2.2.2.2.2.2.2.2.1 k0_t45 (k0_off1189_inb v1 k0_t34 v228 v257 k0_hw21 k0_t45)
theorem k0_off1190_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1190 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.1.2.2.2.2.2.2.2.2.2.2.2.2.2.2.2.2.2.1 k0_t45
theorem k0_off1192_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1192 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.1.2.2.2.2.2.2.2.2.2.2.2.2.2.2.2.2.2.2.1 k0_t45
theorem k0_off1192_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1192 v1 k0_t34 v228 v257 k0_t45) S1x1x1x16x128.size (k0_off1192_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.1.2.2.2.2.2.2.2.2.2.2.2.2.2.2.2.2.2.2.2.1 k0_t45 (k0_off1192_inb v1 k0_t34 v228 v257 k0_hw21 k0_t45)
theorem k0_off1194_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1194 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.1.2.2.2.2.2.2.2.2.2.2.2.2.2.2.2.2.2.2.2.2.1 k0_t45
theorem k0_off1194_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1194 v1 k0_t34 v228 v257 k0_t45) S1x1x1x16x128.size (k0_off1194_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.1.2.2.2.2.2.2.2.2.2.2.2.2.2.2.2.2.2.2.2.2.2.1 k0_t45 (k0_off1194_inb v1 k0_t34 v228 v257 k0_hw21 k0_t45)
theorem k0_off1195_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1195 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.1.2.2.2.2.2.2.2.2.2.2.2.2.2.2.2.2.2.2.2.2.2.2.1 k0_t45
theorem k0_off1197_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1197 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.1.2.2.2.2.2.2.2.2.2.2.2.2.2.2.2.2.2.2.2.2.2.2.2.1 k0_t45
theorem k0_off1197_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1197 v1 k0_t34 v228 v257 k0_t45) S1x1x1x16x128.size (k0_off1197_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.1.2.2.2.2.2.2.2.2.2.2.2.2.2.2.2.2.2.2.2.2.2.2.2.2.1 k0_t45 (k0_off1197_inb v1 k0_t34 v228 v257 k0_hw21 k0_t45)
theorem k0_off1199_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1199 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.1.2.2.2.2.2.2.2.2.2.2.2.2.2.2.2.2.2.2.2.2.2.2.2.2.2.1 k0_t45
theorem k0_off1199_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1199 v1 k0_t34 v228 v257 k0_t45) S1x1x1x16x128.size (k0_off1199_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.1.2.2.2.2.2.2.2.2.2.2.2.2.2.2.2.2.2.2.2.2.2.2.2.2.2.2.1 k0_t45 (k0_off1199_inb v1 k0_t34 v228 v257 k0_hw21 k0_t45)
theorem k0_off1200_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1200 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t45
theorem k0_off1202_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1202 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t45
theorem k0_off1202_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1202 v1 k0_t34 v228 v257 k0_t45) S1x1x1x16x128.size (k0_off1202_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t45 (k0_off1202_inb v1 k0_t34 v228 v257 k0_hw21 k0_t45)
theorem k0_off1204_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1204 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t45
theorem k0_off1204_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1204 v1 k0_t34 v228 v257 k0_t45) S1x1x1x16x128.size (k0_off1204_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t45 (k0_off1204_inb v1 k0_t34 v228 v257 k0_hw21 k0_t45)
theorem k0_off1205_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1205 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.1.1 k0_t45
theorem k0_off1207_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1207 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.1.2.1 k0_t45
theorem k0_off1207_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1207 v1 k0_t34 v228 v257 k0_t45) S1x1x1x16x128.size (k0_off1207_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.1.2.2.1 k0_t45 (k0_off1207_inb v1 k0_t34 v228 v257 k0_hw21 k0_t45)
theorem k0_off1209_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1209 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.1.2.2.2.1 k0_t45
theorem k0_off1209_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1209 v1 k0_t34 v228 v257 k0_t45) S1x1x1x16x128.size (k0_off1209_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.1.2.2.2.2.1 k0_t45 (k0_off1209_inb v1 k0_t34 v228 v257 k0_hw21 k0_t45)
theorem k0_off1210_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1210 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.1.2.2.2.2.2.1 k0_t45
theorem k0_off1212_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1212 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.1.2.2.2.2.2.2.1 k0_t45
theorem k0_off1212_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1212 v1 k0_t34 v228 v257 k0_t45) S1x1x1x16x128.size (k0_off1212_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.1.2.2.2.2.2.2.2.1 k0_t45 (k0_off1212_inb v1 k0_t34 v228 v257 k0_hw21 k0_t45)
theorem k0_off1214_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1214 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.1.2.2.2.2.2.2.2.2.1 k0_t45
theorem k0_off1214_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1214 v1 k0_t34 v228 v257 k0_t45) S1x1x1x16x128.size (k0_off1214_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.1.2.2.2.2.2.2.2.2.2.1 k0_t45 (k0_off1214_inb v1 k0_t34 v228 v257 k0_hw21 k0_t45)
theorem k0_off1215_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1215 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.1.2.2.2.2.2.2.2.2.2.2.1 k0_t45
theorem k0_off1217_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1217 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.1.2.2.2.2.2.2.2.2.2.2.2.1 k0_t45
theorem k0_off1217_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1217 v1 k0_t34 v228 v257 k0_t45) S1x1x1x16x128.size (k0_off1217_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.1.2.2.2.2.2.2.2.2.2.2.2.2.1 k0_t45 (k0_off1217_inb v1 k0_t34 v228 v257 k0_hw21 k0_t45)
theorem k0_off1219_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1219 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.1.2.2.2.2.2.2.2.2.2.2.2.2.2.1 k0_t45
theorem k0_off1219_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1219 v1 k0_t34 v228 v257 k0_t45) S1x1x1x16x128.size (k0_off1219_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.1.2.2.2.2.2.2.2.2.2.2.2.2.2.2.1 k0_t45 (k0_off1219_inb v1 k0_t34 v228 v257 k0_hw21 k0_t45)
theorem k0_off1220_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1220 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.1.2.2.2.2.2.2.2.2.2.2.2.2.2.2.2.1 k0_t45
theorem k0_off1222_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1222 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.1.2.2.2.2.2.2.2.2.2.2.2.2.2.2.2.2.1 k0_t45
theorem k0_off1222_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1222 v1 k0_t34 v228 v257 k0_t45) S1x1x1x16x128.size (k0_off1222_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.1.2.2.2.2.2.2.2.2.2.2.2.2.2.2.2.2.2.1 k0_t45 (k0_off1222_inb v1 k0_t34 v228 v257 k0_hw21 k0_t45)
theorem k0_off1224_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1224 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.1.2.2.2.2.2.2.2.2.2.2.2.2.2.2.2.2.2.2.1 k0_t45
theorem k0_off1224_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1224 v1 k0_t34 v228 v257 k0_t45) S1x1x1x16x128.size (k0_off1224_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.1.2.2.2.2.2.2.2.2.2.2.2.2.2.2.2.2.2.2.2.1 k0_t45 (k0_off1224_inb v1 k0_t34 v228 v257 k0_hw21 k0_t45)
theorem k0_off1225_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1225 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.1.2.2.2.2.2.2.2.2.2.2.2.2.2.2.2.2.2.2.2.2.1 k0_t45
theorem k0_off1227_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1227 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.1.2.2.2.2.2.2.2.2.2.2.2.2.2.2.2.2.2.2.2.2.2.1 k0_t45
theorem k0_off1227_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1227 v1 k0_t34 v228 v257 k0_t45) S1x1x1x16x128.size (k0_off1227_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.1.2.2.2.2.2.2.2.2.2.2.2.2.2.2.2.2.2.2.2.2.2.2.1 k0_t45 (k0_off1227_inb v1 k0_t34 v228 v257 k0_hw21 k0_t45)
theorem k0_off1229_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1229 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.1.2.2.2.2.2.2.2.2.2.2.2.2.2.2.2.2.2.2.2.2.2.2.2.1 k0_t45
theorem k0_off1229_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1229 v1 k0_t34 v228 v257 k0_t45) S1x1x1x16x128.size (k0_off1229_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.1.2.2.2.2.2.2.2.2.2.2.2.2.2.2.2.2.2.2.2.2.2.2.2.2.1 k0_t45 (k0_off1229_inb v1 k0_t34 v228 v257 k0_hw21 k0_t45)
theorem k0_off1230_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1230 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.1.2.2.2.2.2.2.2.2.2.2.2.2.2.2.2.2.2.2.2.2.2.2.2.2.2.1 k0_t45
theorem k0_off1232_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1232 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t45
theorem k0_off1232_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1232 v1 k0_t34 v228 v257 k0_t45) S1x1x1x16x128.size (k0_off1232_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t45 (k0_off1232_inb v1 k0_t34 v228 v257 k0_hw21 k0_t45)
theorem k0_off1234_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1234 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t45
theorem k0_off1234_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1234 v1 k0_t34 v228 v257 k0_t45) S1x1x1x16x128.size (k0_off1234_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t45 (k0_off1234_inb v1 k0_t34 v228 v257 k0_hw21 k0_t45)
theorem k0_off1235_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1235 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t45
theorem k0_off1237_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1237 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t45
theorem k0_off1237_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1237 v1 k0_t34 v228 v257 k0_t45) S1x1x1x16x128.size (k0_off1237_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.1.1 k0_t45 (k0_off1237_inb v1 k0_t34 v228 v257 k0_hw21 k0_t45)
theorem k0_off1239_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1239 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.1.2.1 k0_t45
theorem k0_off1239_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1239 v1 k0_t34 v228 v257 k0_t45) S1x1x1x16x128.size (k0_off1239_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.1.2.2.1 k0_t45 (k0_off1239_inb v1 k0_t34 v228 v257 k0_hw21 k0_t45)
theorem k0_off1240_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1240 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.1.2.2.2.1 k0_t45
theorem k0_off1242_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1242 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.1.2.2.2.2.1 k0_t45
theorem k0_off1242_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1242 v1 k0_t34 v228 v257 k0_t45) S1x1x1x16x128.size (k0_off1242_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.1.2.2.2.2.2.1 k0_t45 (k0_off1242_inb v1 k0_t34 v228 v257 k0_hw21 k0_t45)
theorem k0_off1244_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1244 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.1.2.2.2.2.2.2.1 k0_t45
theorem k0_off1244_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1244 v1 k0_t34 v228 v257 k0_t45) S1x1x1x16x128.size (k0_off1244_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.1.2.2.2.2.2.2.2.1 k0_t45 (k0_off1244_inb v1 k0_t34 v228 v257 k0_hw21 k0_t45)
theorem k0_off1245_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1245 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.1.2.2.2.2.2.2.2.2.1 k0_t45
theorem k0_off1247_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1247 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.1.2.2.2.2.2.2.2.2.2.1 k0_t45
theorem k0_off1247_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1247 v1 k0_t34 v228 v257 k0_t45) S1x1x1x16x128.size (k0_off1247_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.1.2.2.2.2.2.2.2.2.2.2.1 k0_t45 (k0_off1247_inb v1 k0_t34 v228 v257 k0_hw21 k0_t45)
theorem k0_off1249_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1249 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.1.2.2.2.2.2.2.2.2.2.2.2.1 k0_t45
theorem k0_off1249_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1249 v1 k0_t34 v228 v257 k0_t45) S1x1x1x16x128.size (k0_off1249_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.1.2.2.2.2.2.2.2.2.2.2.2.2.1 k0_t45 (k0_off1249_inb v1 k0_t34 v228 v257 k0_hw21 k0_t45)
theorem k0_off1250_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1250 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.1.2.2.2.2.2.2.2.2.2.2.2.2.2.1 k0_t45
theorem k0_off1252_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1252 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.1.2.2.2.2.2.2.2.2.2.2.2.2.2.2.1 k0_t45
theorem k0_off1252_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1252 v1 k0_t34 v228 v257 k0_t45) S1x1x1x16x128.size (k0_off1252_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.1.2.2.2.2.2.2.2.2.2.2.2.2.2.2.2.1 k0_t45 (k0_off1252_inb v1 k0_t34 v228 v257 k0_hw21 k0_t45)
theorem k0_off1254_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1254 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.1.2.2.2.2.2.2.2.2.2.2.2.2.2.2.2.2.1 k0_t45
theorem k0_off1254_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1254 v1 k0_t34 v228 v257 k0_t45) S1x1x1x16x128.size (k0_off1254_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.1.2.2.2.2.2.2.2.2.2.2.2.2.2.2.2.2.2.1 k0_t45 (k0_off1254_inb v1 k0_t34 v228 v257 k0_hw21 k0_t45)
theorem k0_off1255_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1255 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.1.2.2.2.2.2.2.2.2.2.2.2.2.2.2.2.2.2.2.1 k0_t45
theorem k0_off1257_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1257 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.1.2.2.2.2.2.2.2.2.2.2.2.2.2.2.2.2.2.2.2.1 k0_t45
theorem k0_off1257_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1257 v1 k0_t34 v228 v257 k0_t45) S1x1x1x16x128.size (k0_off1257_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.1.2.2.2.2.2.2.2.2.2.2.2.2.2.2.2.2.2.2.2.2.1 k0_t45 (k0_off1257_inb v1 k0_t34 v228 v257 k0_hw21 k0_t45)
theorem k0_off1259_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1259 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.1.2.2.2.2.2.2.2.2.2.2.2.2.2.2.2.2.2.2.2.2.2.1 k0_t45
theorem k0_off1259_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1259 v1 k0_t34 v228 v257 k0_t45) S1x1x1x16x128.size (k0_off1259_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.1.2.2.2.2.2.2.2.2.2.2.2.2.2.2.2.2.2.2.2.2.2.2.1 k0_t45 (k0_off1259_inb v1 k0_t34 v228 v257 k0_hw21 k0_t45)
theorem k0_off1260_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1260 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.1.2.2.2.2.2.2.2.2.2.2.2.2.2.2.2.2.2.2.2.2.2.2.2.1 k0_t45
theorem k0_off1262_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1262 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.1.2.2.2.2.2.2.2.2.2.2.2.2.2.2.2.2.2.2.2.2.2.2.2.2.1 k0_t45
theorem k0_off1262_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1262 v1 k0_t34 v228 v257 k0_t45) S1x1x1x16x128.size (k0_off1262_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t45 (k0_off1262_inb v1 k0_t34 v228 v257 k0_hw21 k0_t45)
theorem k0_off1264_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1264 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t45
theorem k0_off1264_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1264 v1 k0_t34 v228 v257 k0_t45) S1x1x1x16x128.size (k0_off1264_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t45 (k0_off1264_inb v1 k0_t34 v228 v257 k0_hw21 k0_t45)
theorem k0_off1265_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1265 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t45
theorem k0_off1267_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1267 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t45
theorem k0_off1267_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1267 v1 k0_t34 v228 v257 k0_t45) S1x1x1x16x128.size (k0_off1267_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t45 (k0_off1267_inb v1 k0_t34 v228 v257 k0_hw21 k0_t45)
theorem k0_off1269_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1269 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t45
theorem k0_off1269_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1269 v1 k0_t34 v228 v257 k0_t45) S1x1x1x16x128.size (k0_off1269_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.1.1 k0_t45 (k0_off1269_inb v1 k0_t34 v228 v257 k0_hw21 k0_t45)
theorem k0_off1270_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1270 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.1.2.1 k0_t45
theorem k0_off1272_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1272 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.1.2.2.1 k0_t45
theorem k0_off1272_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1272 v1 k0_t34 v228 v257 k0_t45) S1x1x1x16x128.size (k0_off1272_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.1.2.2.2.1 k0_t45 (k0_off1272_inb v1 k0_t34 v228 v257 k0_hw21 k0_t45)
theorem k0_off1274_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1274 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.1.2.2.2.2.1 k0_t45
theorem k0_off1274_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1274 v1 k0_t34 v228 v257 k0_t45) S1x1x1x16x128.size (k0_off1274_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.1.2.2.2.2.2.1 k0_t45 (k0_off1274_inb v1 k0_t34 v228 v257 k0_hw21 k0_t45)
theorem k0_off1275_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1275 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.1.2.2.2.2.2.2.1 k0_t45
theorem k0_off1277_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1277 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.1.2.2.2.2.2.2.2.1 k0_t45
theorem k0_off1277_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1277 v1 k0_t34 v228 v257 k0_t45) S1x1x1x16x128.size (k0_off1277_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.1.2.2.2.2.2.2.2.2.1 k0_t45 (k0_off1277_inb v1 k0_t34 v228 v257 k0_hw21 k0_t45)
theorem k0_off1279_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1279 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.1.2.2.2.2.2.2.2.2.2.1 k0_t45
theorem k0_off1279_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1279 v1 k0_t34 v228 v257 k0_t45) S1x1x1x16x128.size (k0_off1279_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.1.2.2.2.2.2.2.2.2.2.2.1 k0_t45 (k0_off1279_inb v1 k0_t34 v228 v257 k0_hw21 k0_t45)
theorem k0_off1280_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1280 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.1.2.2.2.2.2.2.2.2.2.2.2.1 k0_t45
theorem k0_off1282_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1282 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.1.2.2.2.2.2.2.2.2.2.2.2.2.1 k0_t45
theorem k0_off1282_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1282 v1 k0_t34 v228 v257 k0_t45) S1x1x1x16x128.size (k0_off1282_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.1.2.2.2.2.2.2.2.2.2.2.2.2.2.1 k0_t45 (k0_off1282_inb v1 k0_t34 v228 v257 k0_hw21 k0_t45)
theorem k0_off1284_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1284 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.1.2.2.2.2.2.2.2.2.2.2.2.2.2.2.1 k0_t45
theorem k0_off1284_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1284 v1 k0_t34 v228 v257 k0_t45) S1x1x1x16x128.size (k0_off1284_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.1.2.2.2.2.2.2.2.2.2.2.2.2.2.2.2.1 k0_t45 (k0_off1284_inb v1 k0_t34 v228 v257 k0_hw21 k0_t45)
theorem k0_off1285_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1285 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.1.2.2.2.2.2.2.2.2.2.2.2.2.2.2.2.2.1 k0_t45
theorem k0_off1287_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1287 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.1.2.2.2.2.2.2.2.2.2.2.2.2.2.2.2.2.2.1 k0_t45
theorem k0_off1287_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1287 v1 k0_t34 v228 v257 k0_t45) S1x1x1x16x128.size (k0_off1287_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.1.2.2.2.2.2.2.2.2.2.2.2.2.2.2.2.2.2.2.1 k0_t45 (k0_off1287_inb v1 k0_t34 v228 v257 k0_hw21 k0_t45)
theorem k0_off1289_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1289 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.1.2.2.2.2.2.2.2.2.2.2.2.2.2.2.2.2.2.2.2.1 k0_t45
theorem k0_off1289_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1289 v1 k0_t34 v228 v257 k0_t45) S1x1x1x16x128.size (k0_off1289_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.1.2.2.2.2.2.2.2.2.2.2.2.2.2.2.2.2.2.2.2.2.1 k0_t45 (k0_off1289_inb v1 k0_t34 v228 v257 k0_hw21 k0_t45)
theorem k0_off1290_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1290 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.1.2.2.2.2.2.2.2.2.2.2.2.2.2.2.2.2.2.2.2.2.2.1 k0_t45
theorem k0_off1292_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1292 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.1.2.2.2.2.2.2.2.2.2.2.2.2.2.2.2.2.2.2.2.2.2.2.1 k0_t45
theorem k0_off1292_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1292 v1 k0_t34 v228 v257 k0_t45) S1x1x1x16x128.size (k0_off1292_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.1.2.2.2.2.2.2.2.2.2.2.2.2.2.2.2.2.2.2.2.2.2.2.2.1 k0_t45 (k0_off1292_inb v1 k0_t34 v228 v257 k0_hw21 k0_t45)
theorem k0_off1294_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1294 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t45
theorem k0_off1294_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1294 v1 k0_t34 v228 v257 k0_t45) S1x1x1x16x128.size (k0_off1294_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t45 (k0_off1294_inb v1 k0_t34 v228 v257 k0_hw21 k0_t45)
theorem k0_off1295_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1295 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t45
theorem k0_off1297_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1297 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t45
theorem k0_off1297_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1297 v1 k0_t34 v228 v257 k0_t45) S1x1x1x16x128.size (k0_off1297_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t45 (k0_off1297_inb v1 k0_t34 v228 v257 k0_hw21 k0_t45)
theorem k0_off1299_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1299 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t45
theorem k0_off1299_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1299 v1 k0_t34 v228 v257 k0_t45) S1x1x1x16x128.size (k0_off1299_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t45 (k0_off1299_inb v1 k0_t34 v228 v257 k0_hw21 k0_t45)
theorem k0_off1300_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1300 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t45
theorem k0_off1302_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1302 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.1.1 k0_t45
theorem k0_off1302_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1302 v1 k0_t34 v228 v257 k0_t45) S1x1x1x16x128.size (k0_off1302_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.1.2.1 k0_t45 (k0_off1302_inb v1 k0_t34 v228 v257 k0_hw21 k0_t45)
theorem k0_off1304_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1304 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.1.2.2.1 k0_t45
theorem k0_off1304_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1304 v1 k0_t34 v228 v257 k0_t45) S1x1x1x16x128.size (k0_off1304_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.1.2.2.2.1 k0_t45 (k0_off1304_inb v1 k0_t34 v228 v257 k0_hw21 k0_t45)
theorem k0_off1305_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1305 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.2.1.2.2.2.2.1 k0_t45
theorem k0_off1307_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1307 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.1.2.2.2.2.2.1 k0_t45
theorem k0_off1307_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1307 v1 k0_t34 v228 v257 k0_t45) S1x1x1x16x128.size (k0_off1307_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.1.2.2.2.2.2.2.1 k0_t45 (k0_off1307_inb v1 k0_t34 v228 v257 k0_hw21 k0_t45)
theorem k0_off1309_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1309 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.1.2.2.2.2.2.2.2.1 k0_t45
theorem k0_off1309_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1309 v1 k0_t34 v228 v257 k0_t45) S1x1x1x16x128.size (k0_off1309_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.1.2.2.2.2.2.2.2.2.1 k0_t45 (k0_off1309_inb v1 k0_t34 v228 v257 k0_hw21 k0_t45)
theorem k0_off1310_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1310 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.2.1.2.2.2.2.2.2.2.2.2.1 k0_t45
theorem k0_off1312_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1312 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.1.2.2.2.2.2.2.2.2.2.2.1 k0_t45
theorem k0_off1312_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1312 v1 k0_t34 v228 v257 k0_t45) S1x1x1x16x128.size (k0_off1312_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.1.2.2.2.2.2.2.2.2.2.2.2.1 k0_t45 (k0_off1312_inb v1 k0_t34 v228 v257 k0_hw21 k0_t45)
theorem k0_off1314_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1314 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.1.2.2.2.2.2.2.2.2.2.2.2.2.1 k0_t45
theorem k0_off1314_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1314 v1 k0_t34 v228 v257 k0_t45) S1x1x1x16x128.size (k0_off1314_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.1.2.2.2.2.2.2.2.2.2.2.2.2.2.1 k0_t45 (k0_off1314_inb v1 k0_t34 v228 v257 k0_hw21 k0_t45)
theorem k0_off1315_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1315 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.2.1.2.2.2.2.2.2.2.2.2.2.2.2.2.2.1 k0_t45
theorem k0_off1317_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1317 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.1.2.2.2.2.2.2.2.2.2.2.2.2.2.2.2.1 k0_t45
theorem k0_off1317_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1317 v1 k0_t34 v228 v257 k0_t45) S1x1x1x16x128.size (k0_off1317_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.1.2.2.2.2.2.2.2.2.2.2.2.2.2.2.2.2.1 k0_t45 (k0_off1317_inb v1 k0_t34 v228 v257 k0_hw21 k0_t45)
theorem k0_off1319_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1319 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.1.2.2.2.2.2.2.2.2.2.2.2.2.2.2.2.2.2.1 k0_t45
theorem k0_off1319_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1319 v1 k0_t34 v228 v257 k0_t45) S1x1x1x16x128.size (k0_off1319_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.1.2.2.2.2.2.2.2.2.2.2.2.2.2.2.2.2.2.2.1 k0_t45 (k0_off1319_inb v1 k0_t34 v228 v257 k0_hw21 k0_t45)
theorem k0_off1320_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1320 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.2.1.2.2.2.2.2.2.2.2.2.2.2.2.2.2.2.2.2.2.2.1 k0_t45
theorem k0_off1322_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1322 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.1.2.2.2.2.2.2.2.2.2.2.2.2.2.2.2.2.2.2.2.2.1 k0_t45
theorem k0_off1322_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1322 v1 k0_t34 v228 v257 k0_t45) S1x1x1x16x128.size (k0_off1322_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.1.2.2.2.2.2.2.2.2.2.2.2.2.2.2.2.2.2.2.2.2.2.1 k0_t45 (k0_off1322_inb v1 k0_t34 v228 v257 k0_hw21 k0_t45)
theorem k0_off1324_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1324 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.1.2.2.2.2.2.2.2.2.2.2.2.2.2.2.2.2.2.2.2.2.2.2.1 k0_t45
theorem k0_off1324_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1324 v1 k0_t34 v228 v257 k0_t45) S1x1x1x16x128.size (k0_off1324_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t45 (k0_off1324_inb v1 k0_t34 v228 v257 k0_hw21 k0_t45)
theorem k0_off1325_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1325 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t45
theorem k0_off1327_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1327 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t45
theorem k0_off1327_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1327 v1 k0_t34 v228 v257 k0_t45) S1x1x1x16x128.size (k0_off1327_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t45 (k0_off1327_inb v1 k0_t34 v228 v257 k0_hw21 k0_t45)
theorem k0_off1329_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1329 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t45
theorem k0_off1329_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1329 v1 k0_t34 v228 v257 k0_t45) S1x1x1x16x128.size (k0_off1329_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t45 (k0_off1329_inb v1 k0_t34 v228 v257 k0_hw21 k0_t45)
theorem k0_off1330_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1330 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t45
theorem k0_off1332_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1332 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t45
theorem k0_off1332_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1332 v1 k0_t34 v228 v257 k0_t45) S1x1x1x16x128.size (k0_off1332_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t45 (k0_off1332_inb v1 k0_t34 v228 v257 k0_hw21 k0_t45)
theorem k0_off1334_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1334 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.1.1 k0_t45
theorem k0_off1334_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1334 v1 k0_t34 v228 v257 k0_t45) S1x1x1x16x128.size (k0_off1334_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.1.2.1 k0_t45 (k0_off1334_inb v1 k0_t34 v228 v257 k0_hw21 k0_t45)
theorem k0_off1335_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1335 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.2.2.1.2.2.1 k0_t45
theorem k0_off1337_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1337 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.1.2.2.2.1 k0_t45
theorem k0_off1337_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1337 v1 k0_t34 v228 v257 k0_t45) S1x1x1x16x128.size (k0_off1337_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.1.2.2.2.2.1 k0_t45 (k0_off1337_inb v1 k0_t34 v228 v257 k0_hw21 k0_t45)
theorem k0_off1339_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1339 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.1.2.2.2.2.2.1 k0_t45
theorem k0_off1339_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1339 v1 k0_t34 v228 v257 k0_t45) S1x1x1x16x128.size (k0_off1339_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.1.2.2.2.2.2.2.1 k0_t45 (k0_off1339_inb v1 k0_t34 v228 v257 k0_hw21 k0_t45)
theorem k0_off1340_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1340 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.2.2.1.2.2.2.2.2.2.2.1 k0_t45
theorem k0_off1342_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1342 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.1.2.2.2.2.2.2.2.2.1 k0_t45
theorem k0_off1342_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1342 v1 k0_t34 v228 v257 k0_t45) S1x1x1x16x128.size (k0_off1342_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.1.2.2.2.2.2.2.2.2.2.1 k0_t45 (k0_off1342_inb v1 k0_t34 v228 v257 k0_hw21 k0_t45)
theorem k0_off1344_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1344 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.1.2.2.2.2.2.2.2.2.2.2.1 k0_t45
theorem k0_off1344_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1344 v1 k0_t34 v228 v257 k0_t45) S1x1x1x16x128.size (k0_off1344_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.1.2.2.2.2.2.2.2.2.2.2.2.1 k0_t45 (k0_off1344_inb v1 k0_t34 v228 v257 k0_hw21 k0_t45)
theorem k0_off1345_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1345 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.2.2.1.2.2.2.2.2.2.2.2.2.2.2.2.1 k0_t45
theorem k0_off1347_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1347 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.1.2.2.2.2.2.2.2.2.2.2.2.2.2.1 k0_t45
theorem k0_off1347_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1347 v1 k0_t34 v228 v257 k0_t45) S1x1x1x16x128.size (k0_off1347_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.1.2.2.2.2.2.2.2.2.2.2.2.2.2.2.1 k0_t45 (k0_off1347_inb v1 k0_t34 v228 v257 k0_hw21 k0_t45)
theorem k0_off1349_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1349 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.1.2.2.2.2.2.2.2.2.2.2.2.2.2.2.2.1 k0_t45
theorem k0_off1349_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1349 v1 k0_t34 v228 v257 k0_t45) S1x1x1x16x128.size (k0_off1349_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.1.2.2.2.2.2.2.2.2.2.2.2.2.2.2.2.2.1 k0_t45 (k0_off1349_inb v1 k0_t34 v228 v257 k0_hw21 k0_t45)
theorem k0_off1350_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1350 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.2.2.1.2.2.2.2.2.2.2.2.2.2.2.2.2.2.2.2.2.1 k0_t45
theorem k0_off1352_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1352 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.1.2.2.2.2.2.2.2.2.2.2.2.2.2.2.2.2.2.2.1 k0_t45
theorem k0_off1352_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1352 v1 k0_t34 v228 v257 k0_t45) S1x1x1x16x128.size (k0_off1352_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.1.2.2.2.2.2.2.2.2.2.2.2.2.2.2.2.2.2.2.2.1 k0_t45 (k0_off1352_inb v1 k0_t34 v228 v257 k0_hw21 k0_t45)
theorem k0_off1354_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1354 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.1.2.2.2.2.2.2.2.2.2.2.2.2.2.2.2.2.2.2.2.2.1 k0_t45
theorem k0_off1354_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1354 v1 k0_t34 v228 v257 k0_t45) S1x1x1x16x128.size (k0_off1354_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.1.2.2.2.2.2.2.2.2.2.2.2.2.2.2.2.2.2.2.2.2.2.1 k0_t45 (k0_off1354_inb v1 k0_t34 v228 v257 k0_hw21 k0_t45)
theorem k0_off1355_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1355 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t45
theorem k0_off1357_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1357 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t45
theorem k0_off1357_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1357 v1 k0_t34 v228 v257 k0_t45) S1x1x1x16x128.size (k0_off1357_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t45 (k0_off1357_inb v1 k0_t34 v228 v257 k0_hw21 k0_t45)
theorem k0_off1359_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1359 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t45
theorem k0_off1359_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1359 v1 k0_t34 v228 v257 k0_t45) S1x1x1x16x128.size (k0_off1359_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t45 (k0_off1359_inb v1 k0_t34 v228 v257 k0_hw21 k0_t45)
theorem k0_off1360_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1360 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t45
theorem k0_off1362_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1362 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t45
theorem k0_off1362_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1362 v1 k0_t34 v228 v257 k0_t45) S1x1x1x16x128.size (k0_off1362_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t45 (k0_off1362_inb v1 k0_t34 v228 v257 k0_hw21 k0_t45)
theorem k0_off1364_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1364 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t45
theorem k0_off1364_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1364 v1 k0_t34 v228 v257 k0_t45) S1x1x1x16x128.size (k0_off1364_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t45 (k0_off1364_inb v1 k0_t34 v228 v257 k0_hw21 k0_t45)
theorem k0_off1365_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1365 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.2.2.2.1.1 k0_t45
theorem k0_off1367_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1367 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.1.2.1 k0_t45
theorem k0_off1367_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1367 v1 k0_t34 v228 v257 k0_t45) S1x1x1x16x128.size (k0_off1367_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.1.2.2.1 k0_t45 (k0_off1367_inb v1 k0_t34 v228 v257 k0_hw21 k0_t45)
theorem k0_off1369_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1369 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.1.2.2.2.1 k0_t45
theorem k0_off1369_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1369 v1 k0_t34 v228 v257 k0_t45) S1x1x1x16x128.size (k0_off1369_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.1.2.2.2.2.1 k0_t45 (k0_off1369_inb v1 k0_t34 v228 v257 k0_hw21 k0_t45)
theorem k0_off1370_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1370 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.2.2.2.1.2.2.2.2.2.1 k0_t45
theorem k0_off1372_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1372 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.1.2.2.2.2.2.2.1 k0_t45
theorem k0_off1372_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1372 v1 k0_t34 v228 v257 k0_t45) S1x1x1x16x128.size (k0_off1372_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.1.2.2.2.2.2.2.2.1 k0_t45 (k0_off1372_inb v1 k0_t34 v228 v257 k0_hw21 k0_t45)
theorem k0_off1374_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1374 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.1.2.2.2.2.2.2.2.2.1 k0_t45
theorem k0_off1374_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1374 v1 k0_t34 v228 v257 k0_t45) S1x1x1x16x128.size (k0_off1374_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.1.2.2.2.2.2.2.2.2.2.1 k0_t45 (k0_off1374_inb v1 k0_t34 v228 v257 k0_hw21 k0_t45)
theorem k0_off1375_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1375 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.2.2.2.1.2.2.2.2.2.2.2.2.2.2.1 k0_t45
theorem k0_off1377_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1377 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.1.2.2.2.2.2.2.2.2.2.2.2.1 k0_t45
theorem k0_off1377_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1377 v1 k0_t34 v228 v257 k0_t45) S1x1x1x16x128.size (k0_off1377_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.1.2.2.2.2.2.2.2.2.2.2.2.2.1 k0_t45 (k0_off1377_inb v1 k0_t34 v228 v257 k0_hw21 k0_t45)
theorem k0_off1379_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1379 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.1.2.2.2.2.2.2.2.2.2.2.2.2.2.1 k0_t45
theorem k0_off1379_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1379 v1 k0_t34 v228 v257 k0_t45) S1x1x1x16x128.size (k0_off1379_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.1.2.2.2.2.2.2.2.2.2.2.2.2.2.2.1 k0_t45 (k0_off1379_inb v1 k0_t34 v228 v257 k0_hw21 k0_t45)
theorem k0_off1380_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1380 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.2.2.2.1.2.2.2.2.2.2.2.2.2.2.2.2.2.2.2.1 k0_t45
theorem k0_off1382_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1382 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.1.2.2.2.2.2.2.2.2.2.2.2.2.2.2.2.2.1 k0_t45
theorem k0_off1382_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1382 v1 k0_t34 v228 v257 k0_t45) S1x1x1x16x128.size (k0_off1382_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.1.2.2.2.2.2.2.2.2.2.2.2.2.2.2.2.2.2.1 k0_t45 (k0_off1382_inb v1 k0_t34 v228 v257 k0_hw21 k0_t45)
theorem k0_off1384_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1384 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.1.2.2.2.2.2.2.2.2.2.2.2.2.2.2.2.2.2.2.1 k0_t45
theorem k0_off1384_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1384 v1 k0_t34 v228 v257 k0_t45) S1x1x1x16x128.size (k0_off1384_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.1.2.2.2.2.2.2.2.2.2.2.2.2.2.2.2.2.2.2.2.1 k0_t45 (k0_off1384_inb v1 k0_t34 v228 v257 k0_hw21 k0_t45)
theorem k0_off1385_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1385 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.2.2.2.1.2.2.2.2.2.2.2.2.2.2.2.2.2.2.2.2.2.2.2.2.1 k0_t45
theorem k0_off1387_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1387 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t45
theorem k0_off1387_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1387 v1 k0_t34 v228 v257 k0_t45) S1x1x1x16x128.size (k0_off1387_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t45 (k0_off1387_inb v1 k0_t34 v228 v257 k0_hw21 k0_t45)
theorem k0_off1389_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1389 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t45
theorem k0_off1389_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1389 v1 k0_t34 v228 v257 k0_t45) S1x1x1x16x128.size (k0_off1389_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t45 (k0_off1389_inb v1 k0_t34 v228 v257 k0_hw21 k0_t45)
theorem k0_off1390_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1390 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t45
theorem k0_off1392_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1392 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t45
theorem k0_off1392_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1392 v1 k0_t34 v228 v257 k0_t45) S1x1x1x16x128.size (k0_off1392_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t45 (k0_off1392_inb v1 k0_t34 v228 v257 k0_hw21 k0_t45)
theorem k0_off1394_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1394 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t45
theorem k0_off1394_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1394 v1 k0_t34 v228 v257 k0_t45) S1x1x1x16x128.size (k0_off1394_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t45 (k0_off1394_inb v1 k0_t34 v228 v257 k0_hw21 k0_t45)
theorem k0_off1395_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1395 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t45
theorem k0_off1397_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1397 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t45
theorem k0_off1397_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1397 v1 k0_t34 v228 v257 k0_t45) S1x1x1x16x128.size (k0_off1397_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.2.1.1 k0_t45 (k0_off1397_inb v1 k0_t34 v228 v257 k0_hw21 k0_t45)
theorem k0_off1399_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1399 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.2.1.2.1 k0_t45
theorem k0_off1399_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1399 v1 k0_t34 v228 v257 k0_t45) S1x1x1x16x128.size (k0_off1399_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.2.1.2.2.1 k0_t45 (k0_off1399_inb v1 k0_t34 v228 v257 k0_hw21 k0_t45)
theorem k0_off1400_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1400 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.2.2.2.2.1.2.2.2.1 k0_t45
theorem k0_off1402_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1402 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.2.1.2.2.2.2.1 k0_t45
theorem k0_off1402_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1402 v1 k0_t34 v228 v257 k0_t45) S1x1x1x16x128.size (k0_off1402_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.2.1.2.2.2.2.2.1 k0_t45 (k0_off1402_inb v1 k0_t34 v228 v257 k0_hw21 k0_t45)
theorem k0_off1404_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1404 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.2.1.2.2.2.2.2.2.1 k0_t45
theorem k0_off1404_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1404 v1 k0_t34 v228 v257 k0_t45) S1x1x1x16x128.size (k0_off1404_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.2.1.2.2.2.2.2.2.2.1 k0_t45 (k0_off1404_inb v1 k0_t34 v228 v257 k0_hw21 k0_t45)
theorem k0_off1405_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1405 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.2.2.2.2.1.2.2.2.2.2.2.2.2.1 k0_t45
theorem k0_off1407_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1407 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.2.1.2.2.2.2.2.2.2.2.2.1 k0_t45
theorem k0_off1407_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1407 v1 k0_t34 v228 v257 k0_t45) S1x1x1x16x128.size (k0_off1407_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.2.1.2.2.2.2.2.2.2.2.2.2.1 k0_t45 (k0_off1407_inb v1 k0_t34 v228 v257 k0_hw21 k0_t45)
theorem k0_off1409_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1409 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.2.1.2.2.2.2.2.2.2.2.2.2.2.1 k0_t45
theorem k0_off1409_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1409 v1 k0_t34 v228 v257 k0_t45) S1x1x1x16x128.size (k0_off1409_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.2.1.2.2.2.2.2.2.2.2.2.2.2.2.1 k0_t45 (k0_off1409_inb v1 k0_t34 v228 v257 k0_hw21 k0_t45)
theorem k0_off1410_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1410 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.2.2.2.2.1.2.2.2.2.2.2.2.2.2.2.2.2.2.1 k0_t45
theorem k0_off1412_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1412 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.2.1.2.2.2.2.2.2.2.2.2.2.2.2.2.2.1 k0_t45
theorem k0_off1412_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1412 v1 k0_t34 v228 v257 k0_t45) S1x1x1x16x128.size (k0_off1412_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.2.1.2.2.2.2.2.2.2.2.2.2.2.2.2.2.2.1 k0_t45 (k0_off1412_inb v1 k0_t34 v228 v257 k0_hw21 k0_t45)
theorem k0_off1414_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1414 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.2.1.2.2.2.2.2.2.2.2.2.2.2.2.2.2.2.2.1 k0_t45
theorem k0_off1414_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1414 v1 k0_t34 v228 v257 k0_t45) S1x1x1x16x128.size (k0_off1414_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.2.1.2.2.2.2.2.2.2.2.2.2.2.2.2.2.2.2.2.1 k0_t45 (k0_off1414_inb v1 k0_t34 v228 v257 k0_hw21 k0_t45)
theorem k0_off1415_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1415 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.2.2.2.2.1.2.2.2.2.2.2.2.2.2.2.2.2.2.2.2.2.2.2.1 k0_t45
theorem k0_off1417_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1417 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.2.1.2.2.2.2.2.2.2.2.2.2.2.2.2.2.2.2.2.2.2.1 k0_t45
theorem k0_off1417_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1417 v1 k0_t34 v228 v257 k0_t45) S1x1x1x16x128.size (k0_off1417_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t45 (k0_off1417_inb v1 k0_t34 v228 v257 k0_hw21 k0_t45)
theorem k0_off1419_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1419 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t45
theorem k0_off1419_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1419 v1 k0_t34 v228 v257 k0_t45) S1x1x1x16x128.size (k0_off1419_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t45 (k0_off1419_inb v1 k0_t34 v228 v257 k0_hw21 k0_t45)
theorem k0_off1420_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1420 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t45
theorem k0_off1422_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1422 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t45
theorem k0_off1422_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1422 v1 k0_t34 v228 v257 k0_t45) S1x1x1x16x128.size (k0_off1422_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t45 (k0_off1422_inb v1 k0_t34 v228 v257 k0_hw21 k0_t45)
theorem k0_off1424_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1424 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t45
theorem k0_off1424_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1424 v1 k0_t34 v228 v257 k0_t45) S1x1x1x16x128.size (k0_off1424_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t45 (k0_off1424_inb v1 k0_t34 v228 v257 k0_hw21 k0_t45)
theorem k0_off1425_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1425 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t45
theorem k0_off1427_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1427 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t45
theorem k0_off1427_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1427 v1 k0_t34 v228 v257 k0_t45) S1x1x1x16x128.size (k0_off1427_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t45 (k0_off1427_inb v1 k0_t34 v228 v257 k0_hw21 k0_t45)
theorem k0_off1429_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1429 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t45
theorem k0_off1429_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1429 v1 k0_t34 v228 v257 k0_t45) S1x1x1x16x128.size (k0_off1429_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.2.2.1.1 k0_t45 (k0_off1429_inb v1 k0_t34 v228 v257 k0_hw21 k0_t45)
theorem k0_off1430_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1430 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.2.2.2.2.2.1.2.1 k0_t45
theorem k0_off1432_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1432 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.2.2.1.2.2.1 k0_t45
theorem k0_off1432_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1432 v1 k0_t34 v228 v257 k0_t45) S1x1x1x16x128.size (k0_off1432_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.2.2.1.2.2.2.1 k0_t45 (k0_off1432_inb v1 k0_t34 v228 v257 k0_hw21 k0_t45)
theorem k0_off1434_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1434 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.2.2.1.2.2.2.2.1 k0_t45
theorem k0_off1434_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1434 v1 k0_t34 v228 v257 k0_t45) S1x1x1x16x128.size (k0_off1434_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.2.2.1.2.2.2.2.2.1 k0_t45 (k0_off1434_inb v1 k0_t34 v228 v257 k0_hw21 k0_t45)
theorem k0_off1435_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1435 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.2.2.2.2.2.1.2.2.2.2.2.2.1 k0_t45
theorem k0_off1437_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1437 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.2.2.1.2.2.2.2.2.2.2.1 k0_t45
theorem k0_off1437_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1437 v1 k0_t34 v228 v257 k0_t45) S1x1x1x16x128.size (k0_off1437_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.2.2.1.2.2.2.2.2.2.2.2.1 k0_t45 (k0_off1437_inb v1 k0_t34 v228 v257 k0_hw21 k0_t45)
theorem k0_off1439_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1439 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.2.2.1.2.2.2.2.2.2.2.2.2.1 k0_t45
theorem k0_off1439_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1439 v1 k0_t34 v228 v257 k0_t45) S1x1x1x16x128.size (k0_off1439_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.2.2.1.2.2.2.2.2.2.2.2.2.2.1 k0_t45 (k0_off1439_inb v1 k0_t34 v228 v257 k0_hw21 k0_t45)
theorem k0_off1440_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1440 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.2.2.2.2.2.1.2.2.2.2.2.2.2.2.2.2.2.1 k0_t45
theorem k0_off1442_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1442 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.2.2.1.2.2.2.2.2.2.2.2.2.2.2.2.1 k0_t45
theorem k0_off1442_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1442 v1 k0_t34 v228 v257 k0_t45) S1x1x1x16x128.size (k0_off1442_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.2.2.1.2.2.2.2.2.2.2.2.2.2.2.2.2.1 k0_t45 (k0_off1442_inb v1 k0_t34 v228 v257 k0_hw21 k0_t45)
theorem k0_off1444_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1444 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.2.2.1.2.2.2.2.2.2.2.2.2.2.2.2.2.2.1 k0_t45
theorem k0_off1444_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1444 v1 k0_t34 v228 v257 k0_t45) S1x1x1x16x128.size (k0_off1444_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.2.2.1.2.2.2.2.2.2.2.2.2.2.2.2.2.2.2.1 k0_t45 (k0_off1444_inb v1 k0_t34 v228 v257 k0_hw21 k0_t45)
theorem k0_off1445_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1445 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.2.2.2.2.2.1.2.2.2.2.2.2.2.2.2.2.2.2.2.2.2.2.1 k0_t45
theorem k0_off1447_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1447 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.2.2.1.2.2.2.2.2.2.2.2.2.2.2.2.2.2.2.2.2.1 k0_t45
theorem k0_off1447_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1447 v1 k0_t34 v228 v257 k0_t45) S1x1x1x16x128.size (k0_off1447_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.2.2.1.2.2.2.2.2.2.2.2.2.2.2.2.2.2.2.2.2.2.1 k0_t45 (k0_off1447_inb v1 k0_t34 v228 v257 k0_hw21 k0_t45)
theorem k0_off1449_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1449 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t45
theorem k0_off1449_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1449 v1 k0_t34 v228 v257 k0_t45) S1x1x1x16x128.size (k0_off1449_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t45 (k0_off1449_inb v1 k0_t34 v228 v257 k0_hw21 k0_t45)
theorem k0_off1450_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1450 v1 k0_t34 v228 v257 k0_t45) a + S1x1x1x32x128.size a ≤ S2x2x8x1728x128.size a := fun v1 k0_t34 v228 v257 k0_hw21 k0_t45 => k0_hw21.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t45
theorem k0_off1452_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1452 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t45
theorem k0_off1452_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1452 v1 k0_t34 v228 v257 k0_t45) S1x1x1x16x128.size (k0_off1452_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t45 (k0_off1452_inb v1 k0_t34 v228 v257 k0_hw21 k0_t45)
theorem k0_off1454_inb : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), ∀ a, (k0_off1454 v1 k0_t34 v228 v257 k0_t45) a + S1x1x1x16x128.size a ≤ S2x2x108x128x128.size a := fun v1 k0_t34 v228 v257 k0_hw21 k0_t45 => k0_hw21.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t45
theorem k0_off1454_packedbf16 : ∀ (v1 : BitVec 32) (k0_t34 : Fin (k0_t34_loop v1).trips) (v228 : BitVec 32) (v257 : BitVec 32) (k0_hw21 : k0_chk21 v1 k0_t34 v228 v257) (k0_t45 : Fin (k0_t45_loop v228 v257).trips), (Rect.unit (s := S2x2x108x128x128) (k0_off1454 v1 k0_t34 v228 v257 k0_t45) S1x1x1x16x128.size (k0_off1454_inb v1 k0_t34 v228 v257 k0_hw21 k0_t45)).PackedRows (EltTy.packing .bf16) := fun v1 k0_t34 v228 v257 k0_hw21 k0_t45 => k0_hw21.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t45 (k0_off1454_inb v1 k0_t34 v228 v257 k0_hw21 k0_t45)
theorem k0_t46_ok : ∀ (v1 : BitVec 32) (k0_t34 : Fin (k0_t34_loop v1).trips) (v228 : BitVec 32) (v257 : BitVec 32) (k0_hw21 : k0_chk21 v1 k0_t34 v228 v257), (k0_t46_loop v228 v257).OK := fun v1 k0_t34 v228 v257 k0_hw21 => k0_hw21.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1
theorem k0_off1455_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1455 v228 v257 k0_t46) a + S1x1.size a ≤ S8x128.size a := fun v1 k0_t34 v228 v257 k0_hw21 k0_t46 => k0_hw21.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t46
theorem k0_off1456_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1456 v228) a + S1.size a ≤ S8.size a := fun v1 k0_t34 v228 v257 k0_hw21 k0_t46 => k0_hw21.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t46
theorem k0_mult13_dvd : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), 16 ∣ (k0_mult13 v228 v257 k0_t46).toNat := fun v1 k0_t34 v228 v257 k0_hw21 k0_t46 => k0_hw21.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t46
theorem k0_off1457_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1457 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t46
theorem k0_off1459_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1459 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t46
theorem k0_off1459_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1459 v1 k0_t34 v228 v257 k0_t46) S1x1x1x16x128.size (k0_off1459_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.1.1 k0_t46 (k0_off1459_inb v1 k0_t34 v228 v257 k0_hw21 k0_t46)
theorem k0_off1461_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1461 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.1.2.1 k0_t46
theorem k0_off1461_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1461 v1 k0_t34 v228 v257 k0_t46) S1x1x1x16x128.size (k0_off1461_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.1.2.2.1 k0_t46 (k0_off1461_inb v1 k0_t34 v228 v257 k0_hw21 k0_t46)
theorem k0_off1462_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1462 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.1.2.2.2.1 k0_t46
theorem k0_off1464_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1464 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.1.2.2.2.2.1 k0_t46
theorem k0_off1464_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1464 v1 k0_t34 v228 v257 k0_t46) S1x1x1x16x128.size (k0_off1464_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.1.2.2.2.2.2.1 k0_t46 (k0_off1464_inb v1 k0_t34 v228 v257 k0_hw21 k0_t46)
theorem k0_off1466_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1466 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.1.2.2.2.2.2.2.1 k0_t46
theorem k0_off1466_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1466 v1 k0_t34 v228 v257 k0_t46) S1x1x1x16x128.size (k0_off1466_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.1.2.2.2.2.2.2.2.1 k0_t46 (k0_off1466_inb v1 k0_t34 v228 v257 k0_hw21 k0_t46)
theorem k0_off1467_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1467 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.1.2.2.2.2.2.2.2.2.1 k0_t46
theorem k0_off1469_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1469 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.1.2.2.2.2.2.2.2.2.2.1 k0_t46
theorem k0_off1469_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1469 v1 k0_t34 v228 v257 k0_t46) S1x1x1x16x128.size (k0_off1469_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.1.2.2.2.2.2.2.2.2.2.2.1 k0_t46 (k0_off1469_inb v1 k0_t34 v228 v257 k0_hw21 k0_t46)
theorem k0_off1471_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1471 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.1.2.2.2.2.2.2.2.2.2.2.2.1 k0_t46
theorem k0_off1471_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1471 v1 k0_t34 v228 v257 k0_t46) S1x1x1x16x128.size (k0_off1471_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.1.2.2.2.2.2.2.2.2.2.2.2.2.1 k0_t46 (k0_off1471_inb v1 k0_t34 v228 v257 k0_hw21 k0_t46)
theorem k0_off1472_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1472 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.1.2.2.2.2.2.2.2.2.2.2.2.2.2.1 k0_t46
theorem k0_off1474_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1474 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.1.2.2.2.2.2.2.2.2.2.2.2.2.2.2.1 k0_t46
theorem k0_off1474_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1474 v1 k0_t34 v228 v257 k0_t46) S1x1x1x16x128.size (k0_off1474_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.1.2.2.2.2.2.2.2.2.2.2.2.2.2.2.2.1 k0_t46 (k0_off1474_inb v1 k0_t34 v228 v257 k0_hw21 k0_t46)
theorem k0_off1476_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1476 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.1.2.2.2.2.2.2.2.2.2.2.2.2.2.2.2.2.1 k0_t46
theorem k0_off1476_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1476 v1 k0_t34 v228 v257 k0_t46) S1x1x1x16x128.size (k0_off1476_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.1.2.2.2.2.2.2.2.2.2.2.2.2.2.2.2.2.2.1 k0_t46 (k0_off1476_inb v1 k0_t34 v228 v257 k0_hw21 k0_t46)
theorem k0_off1477_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1477 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t46
theorem k0_off1479_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1479 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t46
theorem k0_off1479_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1479 v1 k0_t34 v228 v257 k0_t46) S1x1x1x16x128.size (k0_off1479_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t46 (k0_off1479_inb v1 k0_t34 v228 v257 k0_hw21 k0_t46)
theorem k0_off1481_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1481 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t46
theorem k0_off1481_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1481 v1 k0_t34 v228 v257 k0_t46) S1x1x1x16x128.size (k0_off1481_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t46 (k0_off1481_inb v1 k0_t34 v228 v257 k0_hw21 k0_t46)
theorem k0_off1482_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1482 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t46
theorem k0_off1484_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1484 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t46
theorem k0_off1484_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1484 v1 k0_t34 v228 v257 k0_t46) S1x1x1x16x128.size (k0_off1484_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t46 (k0_off1484_inb v1 k0_t34 v228 v257 k0_hw21 k0_t46)
theorem k0_off1486_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1486 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t46
theorem k0_off1486_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1486 v1 k0_t34 v228 v257 k0_t46) S1x1x1x16x128.size (k0_off1486_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t46 (k0_off1486_inb v1 k0_t34 v228 v257 k0_hw21 k0_t46)
theorem k0_off1487_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1487 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t46
theorem k0_off1489_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1489 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t46
theorem k0_off1489_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1489 v1 k0_t34 v228 v257 k0_t46) S1x1x1x16x128.size (k0_off1489_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t46 (k0_off1489_inb v1 k0_t34 v228 v257 k0_hw21 k0_t46)
theorem k0_off1491_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1491 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t46
theorem k0_off1491_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1491 v1 k0_t34 v228 v257 k0_t46) S1x1x1x16x128.size (k0_off1491_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.1.1 k0_t46 (k0_off1491_inb v1 k0_t34 v228 v257 k0_hw21 k0_t46)
theorem k0_off1492_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1492 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.1.2.1 k0_t46
theorem k0_off1494_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1494 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.1.2.2.1 k0_t46
theorem k0_off1494_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1494 v1 k0_t34 v228 v257 k0_t46) S1x1x1x16x128.size (k0_off1494_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.1.2.2.2.1 k0_t46 (k0_off1494_inb v1 k0_t34 v228 v257 k0_hw21 k0_t46)
theorem k0_off1496_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1496 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.1.2.2.2.2.1 k0_t46
theorem k0_off1496_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1496 v1 k0_t34 v228 v257 k0_t46) S1x1x1x16x128.size (k0_off1496_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.1.2.2.2.2.2.1 k0_t46 (k0_off1496_inb v1 k0_t34 v228 v257 k0_hw21 k0_t46)
theorem k0_off1497_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1497 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.1.2.2.2.2.2.2.1 k0_t46
theorem k0_off1499_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1499 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.1.2.2.2.2.2.2.2.1 k0_t46
theorem k0_off1499_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1499 v1 k0_t34 v228 v257 k0_t46) S1x1x1x16x128.size (k0_off1499_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.1.2.2.2.2.2.2.2.2.1 k0_t46 (k0_off1499_inb v1 k0_t34 v228 v257 k0_hw21 k0_t46)
theorem k0_off1501_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1501 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.1.2.2.2.2.2.2.2.2.2.1 k0_t46
theorem k0_off1501_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1501 v1 k0_t34 v228 v257 k0_t46) S1x1x1x16x128.size (k0_off1501_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.1.2.2.2.2.2.2.2.2.2.2.1 k0_t46 (k0_off1501_inb v1 k0_t34 v228 v257 k0_hw21 k0_t46)
theorem k0_off1502_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1502 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.1.2.2.2.2.2.2.2.2.2.2.2.1 k0_t46
theorem k0_off1504_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1504 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.1.2.2.2.2.2.2.2.2.2.2.2.2.1 k0_t46
theorem k0_off1504_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1504 v1 k0_t34 v228 v257 k0_t46) S1x1x1x16x128.size (k0_off1504_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.1.2.2.2.2.2.2.2.2.2.2.2.2.2.1 k0_t46 (k0_off1504_inb v1 k0_t34 v228 v257 k0_hw21 k0_t46)
theorem k0_off1506_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1506 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.1.2.2.2.2.2.2.2.2.2.2.2.2.2.2.1 k0_t46
theorem k0_off1506_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1506 v1 k0_t34 v228 v257 k0_t46) S1x1x1x16x128.size (k0_off1506_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.1.2.2.2.2.2.2.2.2.2.2.2.2.2.2.2.1 k0_t46 (k0_off1506_inb v1 k0_t34 v228 v257 k0_hw21 k0_t46)
theorem k0_off1507_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1507 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.1.2.2.2.2.2.2.2.2.2.2.2.2.2.2.2.2.1 k0_t46
theorem k0_off1509_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1509 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t46
theorem k0_off1509_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1509 v1 k0_t34 v228 v257 k0_t46) S1x1x1x16x128.size (k0_off1509_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t46 (k0_off1509_inb v1 k0_t34 v228 v257 k0_hw21 k0_t46)
theorem k0_off1511_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1511 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t46
theorem k0_off1511_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1511 v1 k0_t34 v228 v257 k0_t46) S1x1x1x16x128.size (k0_off1511_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t46 (k0_off1511_inb v1 k0_t34 v228 v257 k0_hw21 k0_t46)
theorem k0_off1512_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1512 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t46
theorem k0_off1514_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1514 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t46
theorem k0_off1514_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1514 v1 k0_t34 v228 v257 k0_t46) S1x1x1x16x128.size (k0_off1514_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t46 (k0_off1514_inb v1 k0_t34 v228 v257 k0_hw21 k0_t46)
theorem k0_off1516_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1516 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t46
theorem k0_off1516_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1516 v1 k0_t34 v228 v257 k0_t46) S1x1x1x16x128.size (k0_off1516_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t46 (k0_off1516_inb v1 k0_t34 v228 v257 k0_hw21 k0_t46)
theorem k0_off1517_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1517 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t46
theorem k0_off1519_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1519 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t46
theorem k0_off1519_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1519 v1 k0_t34 v228 v257 k0_t46) S1x1x1x16x128.size (k0_off1519_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t46 (k0_off1519_inb v1 k0_t34 v228 v257 k0_hw21 k0_t46)
theorem k0_off1521_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1521 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t46
theorem k0_off1521_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1521 v1 k0_t34 v228 v257 k0_t46) S1x1x1x16x128.size (k0_off1521_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t46 (k0_off1521_inb v1 k0_t34 v228 v257 k0_hw21 k0_t46)
theorem k0_off1522_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1522 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t46
theorem k0_off1524_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1524 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.1 k0_t46
theorem k0_off1524_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1524 v1 k0_t34 v228 v257 k0_t46) S1x1x1x16x128.size (k0_off1524_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.2.1 k0_t46 (k0_off1524_inb v1 k0_t34 v228 v257 k0_hw21 k0_t46)
theorem k0_off1526_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1526 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.2.2.1 k0_t46
theorem k0_off1526_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1526 v1 k0_t34 v228 v257 k0_t46) S1x1x1x16x128.size (k0_off1526_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.2.2.2.1 k0_t46 (k0_off1526_inb v1 k0_t34 v228 v257 k0_hw21 k0_t46)
theorem k0_off1527_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1527 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.2.2.2.2.1 k0_t46
theorem k0_off1529_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1529 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.2.2.2.2.2.1 k0_t46
theorem k0_off1529_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1529 v1 k0_t34 v228 v257 k0_t46) S1x1x1x16x128.size (k0_off1529_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.2.2.2.2.2.2.1 k0_t46 (k0_off1529_inb v1 k0_t34 v228 v257 k0_hw21 k0_t46)
theorem k0_off1531_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1531 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.2.2.2.2.2.2.2.1 k0_t46
theorem k0_off1531_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1531 v1 k0_t34 v228 v257 k0_t46) S1x1x1x16x128.size (k0_off1531_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.2.2.2.2.2.2.2.2.1 k0_t46 (k0_off1531_inb v1 k0_t34 v228 v257 k0_hw21 k0_t46)
theorem k0_off1532_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1532 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.2.2.2.2.2.2.2.2.2.1 k0_t46
theorem k0_off1534_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1534 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.2.2.2.2.2.2.2.2.2.2.1 k0_t46
theorem k0_off1534_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1534 v1 k0_t34 v228 v257 k0_t46) S1x1x1x16x128.size (k0_off1534_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.2.2.2.2.2.2.2.2.2.2.2.1 k0_t46 (k0_off1534_inb v1 k0_t34 v228 v257 k0_hw21 k0_t46)
theorem k0_off1536_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1536 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.2.2.2.2.2.2.2.2.2.2.2.2.1 k0_t46
theorem k0_off1536_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1536 v1 k0_t34 v228 v257 k0_t46) S1x1x1x16x128.size (k0_off1536_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.2.2.2.2.2.2.2.2.2.2.2.2.2.1 k0_t46 (k0_off1536_inb v1 k0_t34 v228 v257 k0_hw21 k0_t46)
theorem k0_off1537_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1537 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.2.2.2.2.2.2.2.2.2.2.2.2.2.2.1 k0_t46
theorem k0_off1539_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1539 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.2.2.2.2.2.2.2.2.2.2.2.2.2.2.2.1 k0_t46
theorem k0_off1539_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1539 v1 k0_t34 v228 v257 k0_t46) S1x1x1x16x128.size (k0_off1539_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t46 (k0_off1539_inb v1 k0_t34 v228 v257 k0_hw21 k0_t46)
theorem k0_off1541_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1541 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t46
theorem k0_off1541_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1541 v1 k0_t34 v228 v257 k0_t46) S1x1x1x16x128.size (k0_off1541_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t46 (k0_off1541_inb v1 k0_t34 v228 v257 k0_hw21 k0_t46)
theorem k0_off1542_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1542 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t46
theorem k0_off1544_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1544 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t46
theorem k0_off1544_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1544 v1 k0_t34 v228 v257 k0_t46) S1x1x1x16x128.size (k0_off1544_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t46 (k0_off1544_inb v1 k0_t34 v228 v257 k0_hw21 k0_t46)
theorem k0_off1546_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1546 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t46
theorem k0_off1546_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1546 v1 k0_t34 v228 v257 k0_t46) S1x1x1x16x128.size (k0_off1546_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t46 (k0_off1546_inb v1 k0_t34 v228 v257 k0_hw21 k0_t46)
theorem k0_off1547_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1547 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t46
theorem k0_off1549_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1549 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t46
theorem k0_off1549_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1549 v1 k0_t34 v228 v257 k0_t46) S1x1x1x16x128.size (k0_off1549_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t46 (k0_off1549_inb v1 k0_t34 v228 v257 k0_hw21 k0_t46)
theorem k0_off1551_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1551 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t46
theorem k0_off1551_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1551 v1 k0_t34 v228 v257 k0_t46) S1x1x1x16x128.size (k0_off1551_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t46 (k0_off1551_inb v1 k0_t34 v228 v257 k0_hw21 k0_t46)
theorem k0_off1552_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1552 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t46
theorem k0_off1554_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1554 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t46
theorem k0_off1554_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1554 v1 k0_t34 v228 v257 k0_t46) S1x1x1x16x128.size (k0_off1554_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t46 (k0_off1554_inb v1 k0_t34 v228 v257 k0_hw21 k0_t46)
theorem k0_off1556_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1556 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.1 k0_t46
theorem k0_off1556_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1556 v1 k0_t34 v228 v257 k0_t46) S1x1x1x16x128.size (k0_off1556_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.2.1 k0_t46 (k0_off1556_inb v1 k0_t34 v228 v257 k0_hw21 k0_t46)
theorem k0_off1557_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1557 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.2.2.1 k0_t46
theorem k0_off1559_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1559 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.2.2.2.1 k0_t46
theorem k0_off1559_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1559 v1 k0_t34 v228 v257 k0_t46) S1x1x1x16x128.size (k0_off1559_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.2.2.2.2.1 k0_t46 (k0_off1559_inb v1 k0_t34 v228 v257 k0_hw21 k0_t46)
theorem k0_off1561_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1561 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.2.2.2.2.2.1 k0_t46
theorem k0_off1561_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1561 v1 k0_t34 v228 v257 k0_t46) S1x1x1x16x128.size (k0_off1561_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.2.2.2.2.2.2.1 k0_t46 (k0_off1561_inb v1 k0_t34 v228 v257 k0_hw21 k0_t46)
theorem k0_off1562_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1562 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.2.2.2.2.2.2.2.1 k0_t46
theorem k0_off1564_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1564 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.2.2.2.2.2.2.2.2.1 k0_t46
theorem k0_off1564_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1564 v1 k0_t34 v228 v257 k0_t46) S1x1x1x16x128.size (k0_off1564_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.2.2.2.2.2.2.2.2.2.1 k0_t46 (k0_off1564_inb v1 k0_t34 v228 v257 k0_hw21 k0_t46)
theorem k0_off1566_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1566 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.2.2.2.2.2.2.2.2.2.2.1 k0_t46
theorem k0_off1566_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1566 v1 k0_t34 v228 v257 k0_t46) S1x1x1x16x128.size (k0_off1566_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.2.2.2.2.2.2.2.2.2.2.2.1 k0_t46 (k0_off1566_inb v1 k0_t34 v228 v257 k0_hw21 k0_t46)
theorem k0_off1567_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1567 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.2.2.2.2.2.2.2.2.2.2.2.2.1 k0_t46
theorem k0_off1569_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1569 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.2.2.2.2.2.2.2.2.2.2.2.2.2.1 k0_t46
theorem k0_off1569_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1569 v1 k0_t34 v228 v257 k0_t46) S1x1x1x16x128.size (k0_off1569_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.2.2.2.2.2.2.2.2.2.2.2.2.2.2.1 k0_t46 (k0_off1569_inb v1 k0_t34 v228 v257 k0_hw21 k0_t46)
theorem k0_off1571_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1571 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t46
theorem k0_off1571_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1571 v1 k0_t34 v228 v257 k0_t46) S1x1x1x16x128.size (k0_off1571_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t46 (k0_off1571_inb v1 k0_t34 v228 v257 k0_hw21 k0_t46)
theorem k0_off1572_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1572 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t46
theorem k0_off1574_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1574 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t46
theorem k0_off1574_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1574 v1 k0_t34 v228 v257 k0_t46) S1x1x1x16x128.size (k0_off1574_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t46 (k0_off1574_inb v1 k0_t34 v228 v257 k0_hw21 k0_t46)
theorem k0_off1576_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1576 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t46
theorem k0_off1576_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1576 v1 k0_t34 v228 v257 k0_t46) S1x1x1x16x128.size (k0_off1576_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t46 (k0_off1576_inb v1 k0_t34 v228 v257 k0_hw21 k0_t46)
theorem k0_off1577_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1577 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t46
theorem k0_off1579_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1579 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t46
theorem k0_off1579_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1579 v1 k0_t34 v228 v257 k0_t46) S1x1x1x16x128.size (k0_off1579_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t46 (k0_off1579_inb v1 k0_t34 v228 v257 k0_hw21 k0_t46)
theorem k0_off1581_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1581 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t46
theorem k0_off1581_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1581 v1 k0_t34 v228 v257 k0_t46) S1x1x1x16x128.size (k0_off1581_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t46 (k0_off1581_inb v1 k0_t34 v228 v257 k0_hw21 k0_t46)
theorem k0_off1582_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1582 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t46
theorem k0_off1584_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1584 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t46
theorem k0_off1584_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1584 v1 k0_t34 v228 v257 k0_t46) S1x1x1x16x128.size (k0_off1584_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t46 (k0_off1584_inb v1 k0_t34 v228 v257 k0_hw21 k0_t46)
theorem k0_off1586_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1586 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t46
theorem k0_off1586_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1586 v1 k0_t34 v228 v257 k0_t46) S1x1x1x16x128.size (k0_off1586_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t46 (k0_off1586_inb v1 k0_t34 v228 v257 k0_hw21 k0_t46)
theorem k0_off1587_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1587 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.1 k0_t46
theorem k0_off1589_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1589 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.2.1 k0_t46
theorem k0_off1589_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1589 v1 k0_t34 v228 v257 k0_t46) S1x1x1x16x128.size (k0_off1589_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.2.2.1 k0_t46 (k0_off1589_inb v1 k0_t34 v228 v257 k0_hw21 k0_t46)
theorem k0_off1591_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1591 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.2.2.2.1 k0_t46
theorem k0_off1591_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1591 v1 k0_t34 v228 v257 k0_t46) S1x1x1x16x128.size (k0_off1591_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.2.2.2.2.1 k0_t46 (k0_off1591_inb v1 k0_t34 v228 v257 k0_hw21 k0_t46)
theorem k0_off1592_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1592 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.2.2.2.2.2.1 k0_t46
theorem k0_off1594_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1594 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.2.2.2.2.2.2.1 k0_t46
theorem k0_off1594_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1594 v1 k0_t34 v228 v257 k0_t46) S1x1x1x16x128.size (k0_off1594_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.2.2.2.2.2.2.2.1 k0_t46 (k0_off1594_inb v1 k0_t34 v228 v257 k0_hw21 k0_t46)
theorem k0_off1596_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1596 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.2.2.2.2.2.2.2.2.1 k0_t46
theorem k0_off1596_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1596 v1 k0_t34 v228 v257 k0_t46) S1x1x1x16x128.size (k0_off1596_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.2.2.2.2.2.2.2.2.2.1 k0_t46 (k0_off1596_inb v1 k0_t34 v228 v257 k0_hw21 k0_t46)
theorem k0_off1597_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1597 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.2.2.2.2.2.2.2.2.2.2.1 k0_t46
theorem k0_off1599_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1599 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.2.2.2.2.2.2.2.2.2.2.2.1 k0_t46
theorem k0_off1599_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1599 v1 k0_t34 v228 v257 k0_t46) S1x1x1x16x128.size (k0_off1599_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.2.2.2.2.2.2.2.2.2.2.2.2.1 k0_t46 (k0_off1599_inb v1 k0_t34 v228 v257 k0_hw21 k0_t46)
theorem k0_off1601_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1601 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.2.2.2.2.2.2.2.2.2.2.2.2.2.1 k0_t46
theorem k0_off1601_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1601 v1 k0_t34 v228 v257 k0_t46) S1x1x1x16x128.size (k0_off1601_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t46 (k0_off1601_inb v1 k0_t34 v228 v257 k0_hw21 k0_t46)
theorem k0_off1602_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1602 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t46
theorem k0_off1604_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1604 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t46
theorem k0_off1604_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1604 v1 k0_t34 v228 v257 k0_t46) S1x1x1x16x128.size (k0_off1604_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t46 (k0_off1604_inb v1 k0_t34 v228 v257 k0_hw21 k0_t46)
theorem k0_off1606_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1606 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t46
theorem k0_off1606_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1606 v1 k0_t34 v228 v257 k0_t46) S1x1x1x16x128.size (k0_off1606_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t46 (k0_off1606_inb v1 k0_t34 v228 v257 k0_hw21 k0_t46)
theorem k0_off1607_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1607 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t46
theorem k0_off1609_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1609 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t46
theorem k0_off1609_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1609 v1 k0_t34 v228 v257 k0_t46) S1x1x1x16x128.size (k0_off1609_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t46 (k0_off1609_inb v1 k0_t34 v228 v257 k0_hw21 k0_t46)
theorem k0_off1611_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1611 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t46
theorem k0_off1611_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1611 v1 k0_t34 v228 v257 k0_t46) S1x1x1x16x128.size (k0_off1611_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t46 (k0_off1611_inb v1 k0_t34 v228 v257 k0_hw21 k0_t46)
theorem k0_off1612_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1612 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t46
theorem k0_off1614_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1614 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t46
theorem k0_off1614_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1614 v1 k0_t34 v228 v257 k0_t46) S1x1x1x16x128.size (k0_off1614_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t46 (k0_off1614_inb v1 k0_t34 v228 v257 k0_hw21 k0_t46)
theorem k0_off1616_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1616 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t46
theorem k0_off1616_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1616 v1 k0_t34 v228 v257 k0_t46) S1x1x1x16x128.size (k0_off1616_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t46 (k0_off1616_inb v1 k0_t34 v228 v257 k0_hw21 k0_t46)
theorem k0_off1617_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1617 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t46
theorem k0_off1619_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1619 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t46
theorem k0_off1619_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1619 v1 k0_t34 v228 v257 k0_t46) S1x1x1x16x128.size (k0_off1619_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.1 k0_t46 (k0_off1619_inb v1 k0_t34 v228 v257 k0_hw21 k0_t46)
theorem k0_off1621_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1621 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.2.1 k0_t46
theorem k0_off1621_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1621 v1 k0_t34 v228 v257 k0_t46) S1x1x1x16x128.size (k0_off1621_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.2.2.1 k0_t46 (k0_off1621_inb v1 k0_t34 v228 v257 k0_hw21 k0_t46)
theorem k0_off1622_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1622 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.2.2.2.1 k0_t46
theorem k0_off1624_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1624 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.2.2.2.2.1 k0_t46
theorem k0_off1624_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1624 v1 k0_t34 v228 v257 k0_t46) S1x1x1x16x128.size (k0_off1624_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.2.2.2.2.2.1 k0_t46 (k0_off1624_inb v1 k0_t34 v228 v257 k0_hw21 k0_t46)
theorem k0_off1626_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1626 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.2.2.2.2.2.2.1 k0_t46
theorem k0_off1626_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1626 v1 k0_t34 v228 v257 k0_t46) S1x1x1x16x128.size (k0_off1626_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.2.2.2.2.2.2.2.1 k0_t46 (k0_off1626_inb v1 k0_t34 v228 v257 k0_hw21 k0_t46)
theorem k0_off1627_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1627 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.2.2.2.2.2.2.2.2.1 k0_t46
theorem k0_off1629_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1629 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.2.2.2.2.2.2.2.2.2.1 k0_t46
theorem k0_off1629_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1629 v1 k0_t34 v228 v257 k0_t46) S1x1x1x16x128.size (k0_off1629_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.2.2.2.2.2.2.2.2.2.2.1 k0_t46 (k0_off1629_inb v1 k0_t34 v228 v257 k0_hw21 k0_t46)
theorem k0_off1631_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1631 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.2.2.2.2.2.2.2.2.2.2.2.1 k0_t46
theorem k0_off1631_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1631 v1 k0_t34 v228 v257 k0_t46) S1x1x1x16x128.size (k0_off1631_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.2.2.2.2.2.2.2.2.2.2.2.2.1 k0_t46 (k0_off1631_inb v1 k0_t34 v228 v257 k0_hw21 k0_t46)
theorem k0_off1632_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1632 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t46
theorem k0_off1634_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1634 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t46
theorem k0_off1634_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1634 v1 k0_t34 v228 v257 k0_t46) S1x1x1x16x128.size (k0_off1634_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t46 (k0_off1634_inb v1 k0_t34 v228 v257 k0_hw21 k0_t46)
theorem k0_off1636_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1636 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t46
theorem k0_off1636_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1636 v1 k0_t34 v228 v257 k0_t46) S1x1x1x16x128.size (k0_off1636_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t46 (k0_off1636_inb v1 k0_t34 v228 v257 k0_hw21 k0_t46)
theorem k0_off1637_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1637 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t46
theorem k0_off1639_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1639 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t46
theorem k0_off1639_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1639 v1 k0_t34 v228 v257 k0_t46) S1x1x1x16x128.size (k0_off1639_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t46 (k0_off1639_inb v1 k0_t34 v228 v257 k0_hw21 k0_t46)
theorem k0_off1641_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1641 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t46
theorem k0_off1641_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1641 v1 k0_t34 v228 v257 k0_t46) S1x1x1x16x128.size (k0_off1641_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t46 (k0_off1641_inb v1 k0_t34 v228 v257 k0_hw21 k0_t46)
theorem k0_off1642_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1642 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t46
theorem k0_off1644_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1644 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t46
theorem k0_off1644_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1644 v1 k0_t34 v228 v257 k0_t46) S1x1x1x16x128.size (k0_off1644_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t46 (k0_off1644_inb v1 k0_t34 v228 v257 k0_hw21 k0_t46)
theorem k0_off1646_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1646 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t46
theorem k0_off1646_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1646 v1 k0_t34 v228 v257 k0_t46) S1x1x1x16x128.size (k0_off1646_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t46 (k0_off1646_inb v1 k0_t34 v228 v257 k0_hw21 k0_t46)
theorem k0_off1647_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1647 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t46
theorem k0_off1649_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1649 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t46
theorem k0_off1649_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1649 v1 k0_t34 v228 v257 k0_t46) S1x1x1x16x128.size (k0_off1649_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t46 (k0_off1649_inb v1 k0_t34 v228 v257 k0_hw21 k0_t46)
theorem k0_off1651_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1651 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t46
theorem k0_off1651_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1651 v1 k0_t34 v228 v257 k0_t46) S1x1x1x16x128.size (k0_off1651_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.1 k0_t46 (k0_off1651_inb v1 k0_t34 v228 v257 k0_hw21 k0_t46)
theorem k0_off1652_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1652 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.2.1 k0_t46
theorem k0_off1654_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1654 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.2.2.1 k0_t46
theorem k0_off1654_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1654 v1 k0_t34 v228 v257 k0_t46) S1x1x1x16x128.size (k0_off1654_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.2.2.2.1 k0_t46 (k0_off1654_inb v1 k0_t34 v228 v257 k0_hw21 k0_t46)
theorem k0_off1656_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1656 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.2.2.2.2.1 k0_t46
theorem k0_off1656_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1656 v1 k0_t34 v228 v257 k0_t46) S1x1x1x16x128.size (k0_off1656_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.2.2.2.2.2.1 k0_t46 (k0_off1656_inb v1 k0_t34 v228 v257 k0_hw21 k0_t46)
theorem k0_off1657_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1657 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.2.2.2.2.2.2.1 k0_t46
theorem k0_off1659_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1659 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.2.2.2.2.2.2.2.1 k0_t46
theorem k0_off1659_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1659 v1 k0_t34 v228 v257 k0_t46) S1x1x1x16x128.size (k0_off1659_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.2.2.2.2.2.2.2.2.1 k0_t46 (k0_off1659_inb v1 k0_t34 v228 v257 k0_hw21 k0_t46)
theorem k0_off1661_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1661 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.2.2.2.2.2.2.2.2.2.1 k0_t46
theorem k0_off1661_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1661 v1 k0_t34 v228 v257 k0_t46) S1x1x1x16x128.size (k0_off1661_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.2.2.2.2.2.2.2.2.2.2.1 k0_t46 (k0_off1661_inb v1 k0_t34 v228 v257 k0_hw21 k0_t46)
theorem k0_off1662_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1662 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.2.2.2.2.2.2.2.2.2.2.2.1 k0_t46
theorem k0_off1664_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1664 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t46
theorem k0_off1664_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1664 v1 k0_t34 v228 v257 k0_t46) S1x1x1x16x128.size (k0_off1664_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t46 (k0_off1664_inb v1 k0_t34 v228 v257 k0_hw21 k0_t46)
theorem k0_off1666_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1666 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t46
theorem k0_off1666_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1666 v1 k0_t34 v228 v257 k0_t46) S1x1x1x16x128.size (k0_off1666_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t46 (k0_off1666_inb v1 k0_t34 v228 v257 k0_hw21 k0_t46)
theorem k0_off1667_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1667 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t46
theorem k0_off1669_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1669 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t46
theorem k0_off1669_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1669 v1 k0_t34 v228 v257 k0_t46) S1x1x1x16x128.size (k0_off1669_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t46 (k0_off1669_inb v1 k0_t34 v228 v257 k0_hw21 k0_t46)
theorem k0_off1671_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1671 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t46
theorem k0_off1671_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1671 v1 k0_t34 v228 v257 k0_t46) S1x1x1x16x128.size (k0_off1671_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t46 (k0_off1671_inb v1 k0_t34 v228 v257 k0_hw21 k0_t46)
theorem k0_off1672_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1672 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t46
theorem k0_off1674_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1674 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t46
theorem k0_off1674_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1674 v1 k0_t34 v228 v257 k0_t46) S1x1x1x16x128.size (k0_off1674_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t46 (k0_off1674_inb v1 k0_t34 v228 v257 k0_hw21 k0_t46)
theorem k0_off1676_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1676 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t46
theorem k0_off1676_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1676 v1 k0_t34 v228 v257 k0_t46) S1x1x1x16x128.size (k0_off1676_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t46 (k0_off1676_inb v1 k0_t34 v228 v257 k0_hw21 k0_t46)
theorem k0_off1677_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1677 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t46
theorem k0_off1679_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1679 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t46
theorem k0_off1679_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1679 v1 k0_t34 v228 v257 k0_t46) S1x1x1x16x128.size (k0_off1679_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t46 (k0_off1679_inb v1 k0_t34 v228 v257 k0_hw21 k0_t46)
theorem k0_off1681_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1681 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t46
theorem k0_off1681_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1681 v1 k0_t34 v228 v257 k0_t46) S1x1x1x16x128.size (k0_off1681_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t46 (k0_off1681_inb v1 k0_t34 v228 v257 k0_hw21 k0_t46)
theorem k0_off1682_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1682 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t46
theorem k0_off1684_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1684 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.1 k0_t46
theorem k0_off1684_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1684 v1 k0_t34 v228 v257 k0_t46) S1x1x1x16x128.size (k0_off1684_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.2.1 k0_t46 (k0_off1684_inb v1 k0_t34 v228 v257 k0_hw21 k0_t46)
theorem k0_off1686_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1686 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.2.2.1 k0_t46
theorem k0_off1686_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1686 v1 k0_t34 v228 v257 k0_t46) S1x1x1x16x128.size (k0_off1686_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.2.2.2.1 k0_t46 (k0_off1686_inb v1 k0_t34 v228 v257 k0_hw21 k0_t46)
theorem k0_off1687_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1687 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.2.2.2.2.1 k0_t46
theorem k0_off1689_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1689 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.2.2.2.2.2.1 k0_t46
theorem k0_off1689_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1689 v1 k0_t34 v228 v257 k0_t46) S1x1x1x16x128.size (k0_off1689_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.2.2.2.2.2.2.1 k0_t46 (k0_off1689_inb v1 k0_t34 v228 v257 k0_hw21 k0_t46)
theorem k0_off1691_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1691 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.2.2.2.2.2.2.2.1 k0_t46
theorem k0_off1691_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1691 v1 k0_t34 v228 v257 k0_t46) S1x1x1x16x128.size (k0_off1691_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.2.2.2.2.2.2.2.2.1 k0_t46 (k0_off1691_inb v1 k0_t34 v228 v257 k0_hw21 k0_t46)
theorem k0_off1692_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1692 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.2.2.2.2.2.2.2.2.2.1 k0_t46
theorem k0_off1694_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1694 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.2.2.2.2.2.2.2.2.2.2.1 k0_t46
theorem k0_off1694_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1694 v1 k0_t34 v228 v257 k0_t46) S1x1x1x16x128.size (k0_off1694_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t46 (k0_off1694_inb v1 k0_t34 v228 v257 k0_hw21 k0_t46)
theorem k0_off1696_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1696 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t46
theorem k0_off1696_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1696 v1 k0_t34 v228 v257 k0_t46) S1x1x1x16x128.size (k0_off1696_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t46 (k0_off1696_inb v1 k0_t34 v228 v257 k0_hw21 k0_t46)
theorem k0_off1697_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1697 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t46
theorem k0_off1699_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1699 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t46
theorem k0_off1699_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1699 v1 k0_t34 v228 v257 k0_t46) S1x1x1x16x128.size (k0_off1699_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t46 (k0_off1699_inb v1 k0_t34 v228 v257 k0_hw21 k0_t46)
theorem k0_off1701_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1701 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t46
theorem k0_off1701_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1701 v1 k0_t34 v228 v257 k0_t46) S1x1x1x16x128.size (k0_off1701_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t46 (k0_off1701_inb v1 k0_t34 v228 v257 k0_hw21 k0_t46)
theorem k0_off1702_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1702 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t46
theorem k0_off1704_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1704 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t46
theorem k0_off1704_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1704 v1 k0_t34 v228 v257 k0_t46) S1x1x1x16x128.size (k0_off1704_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t46 (k0_off1704_inb v1 k0_t34 v228 v257 k0_hw21 k0_t46)
theorem k0_off1706_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1706 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t46
theorem k0_off1706_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1706 v1 k0_t34 v228 v257 k0_t46) S1x1x1x16x128.size (k0_off1706_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t46 (k0_off1706_inb v1 k0_t34 v228 v257 k0_hw21 k0_t46)
theorem k0_off1707_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1707 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t46
theorem k0_off1709_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1709 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t46
theorem k0_off1709_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1709 v1 k0_t34 v228 v257 k0_t46) S1x1x1x16x128.size (k0_off1709_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t46 (k0_off1709_inb v1 k0_t34 v228 v257 k0_hw21 k0_t46)
theorem k0_off1711_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1711 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t46
theorem k0_off1711_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1711 v1 k0_t34 v228 v257 k0_t46) S1x1x1x16x128.size (k0_off1711_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t46 (k0_off1711_inb v1 k0_t34 v228 v257 k0_hw21 k0_t46)
theorem k0_off1712_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1712 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t46
theorem k0_off1714_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1714 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t46
theorem k0_off1714_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1714 v1 k0_t34 v228 v257 k0_t46) S1x1x1x16x128.size (k0_off1714_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t46 (k0_off1714_inb v1 k0_t34 v228 v257 k0_hw21 k0_t46)
theorem k0_off1716_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1716 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.2.1.1 k0_t46
theorem k0_off1716_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1716 v1 k0_t34 v228 v257 k0_t46) S1x1x1x16x128.size (k0_off1716_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.2.1.2.1 k0_t46 (k0_off1716_inb v1 k0_t34 v228 v257 k0_hw21 k0_t46)
theorem k0_off1717_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1717 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.2.1.2.2.1 k0_t46
theorem k0_off1719_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1719 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.2.1.2.2.2.1 k0_t46
theorem k0_off1719_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1719 v1 k0_t34 v228 v257 k0_t46) S1x1x1x16x128.size (k0_off1719_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.2.1.2.2.2.2.1 k0_t46 (k0_off1719_inb v1 k0_t34 v228 v257 k0_hw21 k0_t46)
theorem k0_off1721_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1721 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.2.1.2.2.2.2.2.1 k0_t46
theorem k0_off1721_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1721 v1 k0_t34 v228 v257 k0_t46) S1x1x1x16x128.size (k0_off1721_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.2.1.2.2.2.2.2.2.1 k0_t46 (k0_off1721_inb v1 k0_t34 v228 v257 k0_hw21 k0_t46)
theorem k0_off1722_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1722 v1 k0_t34 v228 v257 k0_t46) a + S1x1x1x32x128.size a ≤ S2x2x8x1728x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.2.1.2.2.2.2.2.2.2.1 k0_t46
theorem k0_off1724_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1724 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.2.1.2.2.2.2.2.2.2.2.1 k0_t46
theorem k0_off1724_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1724 v1 k0_t34 v228 v257 k0_t46) S1x1x1x16x128.size (k0_off1724_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.2.1.2.2.2.2.2.2.2.2.2.1 k0_t46 (k0_off1724_inb v1 k0_t34 v228 v257 k0_hw21 k0_t46)
theorem k0_off1726_inb : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), ∀ a, (k0_off1726 v1 k0_t34 v228 v257 k0_t46) a + S1x1x1x16x128.size a ≤ S2x2x108x128x128.size a := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t46
theorem k0_off1726_packedbf16 : ∀ (v1 : BitVec 32) (k0_t34 : Fin (k0_t34_loop v1).trips) (v228 : BitVec 32) (v257 : BitVec 32) (k0_hw21 : k0_chk21 v1 k0_t34 v228 v257) (k0_t46 : Fin (k0_t46_loop v228 v257).trips), (Rect.unit (s := S2x2x108x128x128) (k0_off1726 v1 k0_t34 v228 v257 k0_t46) S1x1x1x16x128.size (k0_off1726_inb v1 k0_t34 v228 v257 k0_hw21 k0_t46)).PackedRows (EltTy.packing .bf16) := fun v1 k0_t34 v228 v257 k0_hw21 k0_t46 => k0_hw21.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t46 (k0_off1726_inb v1 k0_t34 v228 v257 k0_hw21 k0_t46)
theorem k0_t47_ok : ∀ (v1 : BitVec 32) (k0_t34 : Fin (k0_t34_loop v1).trips) (v228 : BitVec 32) (v257 : BitVec 32) (k0_hw21 : k0_chk21 v1 k0_t34 v228 v257), (k0_t47_loop v228 v257).OK := fun v1 k0_t34 v228 v257 k0_hw21 => k0_hw21.2.2.2.2.2.2.2.2.2.2.2.2.2.2.2.2.2.2.2.2.2.2.2.2.2.2.2.2.2.2.2.2.2.2.2.2.2.2.2.2.2.2.2.2.2.2.2.2.1.2.2.2.2.2.2.2.2.2.2.2.2.1
theorem k0_mult14_dvd : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), 16 ∣ (k0_mult14 v228 v257 k0_t47).toNat := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t47
theorem k0_off1727_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1727 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t47
theorem k0_off1727_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1727 v1 k0_t34 v228 v257 k0_t47) S1x1x1x16x128.size (k0_off1727_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t47 (k0_off1727_inb v1 k0_t34 v228 v257 k0_hw21 k0_t47)
theorem k0_off1728_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1728 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t47
theorem k0_off1728_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1728 v1 k0_t34 v228 v257 k0_t47) S1x1x1x16x128.size (k0_off1728_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t47 (k0_off1728_inb v1 k0_t34 v228 v257 k0_hw21 k0_t47)
theorem k0_off1729_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1729 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t47
theorem k0_off1729_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1729 v1 k0_t34 v228 v257 k0_t47) S1x1x1x16x128.size (k0_off1729_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t47 (k0_off1729_inb v1 k0_t34 v228 v257 k0_hw21 k0_t47)
theorem k0_off1730_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1730 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t47
theorem k0_off1730_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1730 v1 k0_t34 v228 v257 k0_t47) S1x1x1x16x128.size (k0_off1730_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t47 (k0_off1730_inb v1 k0_t34 v228 v257 k0_hw21 k0_t47)
theorem k0_off1731_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1731 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t47
theorem k0_off1731_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1731 v1 k0_t34 v228 v257 k0_t47) S1x1x1x16x128.size (k0_off1731_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t47 (k0_off1731_inb v1 k0_t34 v228 v257 k0_hw21 k0_t47)
theorem k0_off1732_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1732 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t47
theorem k0_off1732_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1732 v1 k0_t34 v228 v257 k0_t47) S1x1x1x16x128.size (k0_off1732_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t47 (k0_off1732_inb v1 k0_t34 v228 v257 k0_hw21 k0_t47)
theorem k0_off1733_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1733 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t47
theorem k0_off1733_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1733 v1 k0_t34 v228 v257 k0_t47) S1x1x1x16x128.size (k0_off1733_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t47 (k0_off1733_inb v1 k0_t34 v228 v257 k0_hw21 k0_t47)
theorem k0_off1734_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1734 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t47
theorem k0_off1734_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1734 v1 k0_t34 v228 v257 k0_t47) S1x1x1x16x128.size (k0_off1734_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t47 (k0_off1734_inb v1 k0_t34 v228 v257 k0_hw21 k0_t47)
theorem k0_off1735_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1735 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t47
theorem k0_off1735_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1735 v1 k0_t34 v228 v257 k0_t47) S1x1x1x16x128.size (k0_off1735_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t47 (k0_off1735_inb v1 k0_t34 v228 v257 k0_hw21 k0_t47)
theorem k0_off1736_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1736 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.1 k0_t47
theorem k0_off1736_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1736 v1 k0_t34 v228 v257 k0_t47) S1x1x1x16x128.size (k0_off1736_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.2.1 k0_t47 (k0_off1736_inb v1 k0_t34 v228 v257 k0_hw21 k0_t47)
theorem k0_off1737_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1737 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.2.2.1 k0_t47
theorem k0_off1737_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1737 v1 k0_t34 v228 v257 k0_t47) S1x1x1x16x128.size (k0_off1737_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.2.2.2.1 k0_t47 (k0_off1737_inb v1 k0_t34 v228 v257 k0_hw21 k0_t47)
theorem k0_off1738_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1738 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.2.2.2.2.1 k0_t47
theorem k0_off1738_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1738 v1 k0_t34 v228 v257 k0_t47) S1x1x1x16x128.size (k0_off1738_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.2.2.2.2.2.1 k0_t47 (k0_off1738_inb v1 k0_t34 v228 v257 k0_hw21 k0_t47)
theorem k0_off1739_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1739 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.2.2.2.2.2.2.1 k0_t47
theorem k0_off1739_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1739 v1 k0_t34 v228 v257 k0_t47) S1x1x1x16x128.size (k0_off1739_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.2.2.2.2.2.2.2.1 k0_t47 (k0_off1739_inb v1 k0_t34 v228 v257 k0_hw21 k0_t47)
theorem k0_off1740_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1740 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.2.2.2.2.2.2.2.2.1 k0_t47
theorem k0_off1740_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1740 v1 k0_t34 v228 v257 k0_t47) S1x1x1x16x128.size (k0_off1740_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t47 (k0_off1740_inb v1 k0_t34 v228 v257 k0_hw21 k0_t47)
theorem k0_off1741_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1741 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t47
theorem k0_off1741_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1741 v1 k0_t34 v228 v257 k0_t47) S1x1x1x16x128.size (k0_off1741_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t47 (k0_off1741_inb v1 k0_t34 v228 v257 k0_hw21 k0_t47)
theorem k0_off1742_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1742 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t47
theorem k0_off1742_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1742 v1 k0_t34 v228 v257 k0_t47) S1x1x1x16x128.size (k0_off1742_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t47 (k0_off1742_inb v1 k0_t34 v228 v257 k0_hw21 k0_t47)
theorem k0_off1743_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1743 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t47
theorem k0_off1743_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1743 v1 k0_t34 v228 v257 k0_t47) S1x1x1x16x128.size (k0_off1743_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t47 (k0_off1743_inb v1 k0_t34 v228 v257 k0_hw21 k0_t47)
theorem k0_off1744_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1744 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t47
theorem k0_off1744_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1744 v1 k0_t34 v228 v257 k0_t47) S1x1x1x16x128.size (k0_off1744_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t47 (k0_off1744_inb v1 k0_t34 v228 v257 k0_hw21 k0_t47)
theorem k0_off1745_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1745 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t47
theorem k0_off1745_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1745 v1 k0_t34 v228 v257 k0_t47) S1x1x1x16x128.size (k0_off1745_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t47 (k0_off1745_inb v1 k0_t34 v228 v257 k0_hw21 k0_t47)
theorem k0_off1746_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1746 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t47
theorem k0_off1746_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1746 v1 k0_t34 v228 v257 k0_t47) S1x1x1x16x128.size (k0_off1746_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t47 (k0_off1746_inb v1 k0_t34 v228 v257 k0_hw21 k0_t47)
theorem k0_off1747_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1747 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t47
theorem k0_off1747_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1747 v1 k0_t34 v228 v257 k0_t47) S1x1x1x16x128.size (k0_off1747_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t47 (k0_off1747_inb v1 k0_t34 v228 v257 k0_hw21 k0_t47)
theorem k0_off1748_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1748 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t47
theorem k0_off1748_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1748 v1 k0_t34 v228 v257 k0_t47) S1x1x1x16x128.size (k0_off1748_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t47 (k0_off1748_inb v1 k0_t34 v228 v257 k0_hw21 k0_t47)
theorem k0_off1749_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1749 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t47
theorem k0_off1749_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1749 v1 k0_t34 v228 v257 k0_t47) S1x1x1x16x128.size (k0_off1749_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t47 (k0_off1749_inb v1 k0_t34 v228 v257 k0_hw21 k0_t47)
theorem k0_off1750_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1750 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t47
theorem k0_off1750_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1750 v1 k0_t34 v228 v257 k0_t47) S1x1x1x16x128.size (k0_off1750_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t47 (k0_off1750_inb v1 k0_t34 v228 v257 k0_hw21 k0_t47)
theorem k0_off1751_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1751 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t47
theorem k0_off1751_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1751 v1 k0_t34 v228 v257 k0_t47) S1x1x1x16x128.size (k0_off1751_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t47 (k0_off1751_inb v1 k0_t34 v228 v257 k0_hw21 k0_t47)
theorem k0_off1752_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1752 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.1 k0_t47
theorem k0_off1752_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1752 v1 k0_t34 v228 v257 k0_t47) S1x1x1x16x128.size (k0_off1752_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.2.1 k0_t47 (k0_off1752_inb v1 k0_t34 v228 v257 k0_hw21 k0_t47)
theorem k0_off1753_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1753 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.2.2.1 k0_t47
theorem k0_off1753_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1753 v1 k0_t34 v228 v257 k0_t47) S1x1x1x16x128.size (k0_off1753_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.2.2.2.1 k0_t47 (k0_off1753_inb v1 k0_t34 v228 v257 k0_hw21 k0_t47)
theorem k0_off1754_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1754 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.2.2.2.2.1 k0_t47
theorem k0_off1754_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1754 v1 k0_t34 v228 v257 k0_t47) S1x1x1x16x128.size (k0_off1754_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.2.2.2.2.2.1 k0_t47 (k0_off1754_inb v1 k0_t34 v228 v257 k0_hw21 k0_t47)
theorem k0_off1755_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1755 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.2.2.2.2.2.2.1 k0_t47
theorem k0_off1755_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1755 v1 k0_t34 v228 v257 k0_t47) S1x1x1x16x128.size (k0_off1755_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.2.2.2.2.2.2.2.1 k0_t47 (k0_off1755_inb v1 k0_t34 v228 v257 k0_hw21 k0_t47)
theorem k0_off1756_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1756 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t47
theorem k0_off1756_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1756 v1 k0_t34 v228 v257 k0_t47) S1x1x1x16x128.size (k0_off1756_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t47 (k0_off1756_inb v1 k0_t34 v228 v257 k0_hw21 k0_t47)
theorem k0_off1757_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1757 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t47
theorem k0_off1757_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1757 v1 k0_t34 v228 v257 k0_t47) S1x1x1x16x128.size (k0_off1757_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t47 (k0_off1757_inb v1 k0_t34 v228 v257 k0_hw21 k0_t47)
theorem k0_off1758_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1758 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t47
theorem k0_off1758_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1758 v1 k0_t34 v228 v257 k0_t47) S1x1x1x16x128.size (k0_off1758_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t47 (k0_off1758_inb v1 k0_t34 v228 v257 k0_hw21 k0_t47)
theorem k0_off1759_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1759 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t47
theorem k0_off1759_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1759 v1 k0_t34 v228 v257 k0_t47) S1x1x1x16x128.size (k0_off1759_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t47 (k0_off1759_inb v1 k0_t34 v228 v257 k0_hw21 k0_t47)
theorem k0_off1760_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1760 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t47
theorem k0_off1760_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1760 v1 k0_t34 v228 v257 k0_t47) S1x1x1x16x128.size (k0_off1760_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t47 (k0_off1760_inb v1 k0_t34 v228 v257 k0_hw21 k0_t47)
theorem k0_off1761_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1761 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t47
theorem k0_off1761_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1761 v1 k0_t34 v228 v257 k0_t47) S1x1x1x16x128.size (k0_off1761_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t47 (k0_off1761_inb v1 k0_t34 v228 v257 k0_hw21 k0_t47)
theorem k0_off1762_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1762 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t47
theorem k0_off1762_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1762 v1 k0_t34 v228 v257 k0_t47) S1x1x1x16x128.size (k0_off1762_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t47 (k0_off1762_inb v1 k0_t34 v228 v257 k0_hw21 k0_t47)
theorem k0_off1763_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1763 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t47
theorem k0_off1763_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1763 v1 k0_t34 v228 v257 k0_t47) S1x1x1x16x128.size (k0_off1763_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t47 (k0_off1763_inb v1 k0_t34 v228 v257 k0_hw21 k0_t47)
theorem k0_off1764_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1764 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t47
theorem k0_off1764_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1764 v1 k0_t34 v228 v257 k0_t47) S1x1x1x16x128.size (k0_off1764_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t47 (k0_off1764_inb v1 k0_t34 v228 v257 k0_hw21 k0_t47)
theorem k0_off1765_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1765 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t47
theorem k0_off1765_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1765 v1 k0_t34 v228 v257 k0_t47) S1x1x1x16x128.size (k0_off1765_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t47 (k0_off1765_inb v1 k0_t34 v228 v257 k0_hw21 k0_t47)
theorem k0_off1766_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1766 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t47
theorem k0_off1766_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1766 v1 k0_t34 v228 v257 k0_t47) S1x1x1x16x128.size (k0_off1766_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t47 (k0_off1766_inb v1 k0_t34 v228 v257 k0_hw21 k0_t47)
theorem k0_off1767_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1767 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t47
theorem k0_off1767_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1767 v1 k0_t34 v228 v257 k0_t47) S1x1x1x16x128.size (k0_off1767_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t47 (k0_off1767_inb v1 k0_t34 v228 v257 k0_hw21 k0_t47)
theorem k0_off1768_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1768 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.1 k0_t47
theorem k0_off1768_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1768 v1 k0_t34 v228 v257 k0_t47) S1x1x1x16x128.size (k0_off1768_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.2.1 k0_t47 (k0_off1768_inb v1 k0_t34 v228 v257 k0_hw21 k0_t47)
theorem k0_off1769_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1769 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.2.2.1 k0_t47
theorem k0_off1769_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1769 v1 k0_t34 v228 v257 k0_t47) S1x1x1x16x128.size (k0_off1769_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.2.2.2.1 k0_t47 (k0_off1769_inb v1 k0_t34 v228 v257 k0_hw21 k0_t47)
theorem k0_off1770_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1770 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.2.2.2.2.1 k0_t47
theorem k0_off1770_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1770 v1 k0_t34 v228 v257 k0_t47) S1x1x1x16x128.size (k0_off1770_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.2.2.2.2.2.1 k0_t47 (k0_off1770_inb v1 k0_t34 v228 v257 k0_hw21 k0_t47)
theorem k0_off1771_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1771 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.2.2.2.2.2.2.1 k0_t47
theorem k0_off1771_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1771 v1 k0_t34 v228 v257 k0_t47) S1x1x1x16x128.size (k0_off1771_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t47 (k0_off1771_inb v1 k0_t34 v228 v257 k0_hw21 k0_t47)
theorem k0_off1772_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1772 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t47
theorem k0_off1772_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1772 v1 k0_t34 v228 v257 k0_t47) S1x1x1x16x128.size (k0_off1772_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t47 (k0_off1772_inb v1 k0_t34 v228 v257 k0_hw21 k0_t47)
theorem k0_off1773_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1773 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t47
theorem k0_off1773_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1773 v1 k0_t34 v228 v257 k0_t47) S1x1x1x16x128.size (k0_off1773_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t47 (k0_off1773_inb v1 k0_t34 v228 v257 k0_hw21 k0_t47)
theorem k0_off1774_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1774 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t47
theorem k0_off1774_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1774 v1 k0_t34 v228 v257 k0_t47) S1x1x1x16x128.size (k0_off1774_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t47 (k0_off1774_inb v1 k0_t34 v228 v257 k0_hw21 k0_t47)
theorem k0_off1775_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1775 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t47
theorem k0_off1775_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1775 v1 k0_t34 v228 v257 k0_t47) S1x1x1x16x128.size (k0_off1775_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t47 (k0_off1775_inb v1 k0_t34 v228 v257 k0_hw21 k0_t47)
theorem k0_off1776_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1776 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t47
theorem k0_off1776_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1776 v1 k0_t34 v228 v257 k0_t47) S1x1x1x16x128.size (k0_off1776_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t47 (k0_off1776_inb v1 k0_t34 v228 v257 k0_hw21 k0_t47)
theorem k0_off1777_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1777 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t47
theorem k0_off1777_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1777 v1 k0_t34 v228 v257 k0_t47) S1x1x1x16x128.size (k0_off1777_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t47 (k0_off1777_inb v1 k0_t34 v228 v257 k0_hw21 k0_t47)
theorem k0_off1778_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1778 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t47
theorem k0_off1778_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1778 v1 k0_t34 v228 v257 k0_t47) S1x1x1x16x128.size (k0_off1778_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t47 (k0_off1778_inb v1 k0_t34 v228 v257 k0_hw21 k0_t47)
theorem k0_off1779_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1779 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t47
theorem k0_off1779_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1779 v1 k0_t34 v228 v257 k0_t47) S1x1x1x16x128.size (k0_off1779_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t47 (k0_off1779_inb v1 k0_t34 v228 v257 k0_hw21 k0_t47)
theorem k0_off1780_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1780 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t47
theorem k0_off1780_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1780 v1 k0_t34 v228 v257 k0_t47) S1x1x1x16x128.size (k0_off1780_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t47 (k0_off1780_inb v1 k0_t34 v228 v257 k0_hw21 k0_t47)
theorem k0_off1781_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1781 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t47
theorem k0_off1781_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1781 v1 k0_t34 v228 v257 k0_t47) S1x1x1x16x128.size (k0_off1781_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t47 (k0_off1781_inb v1 k0_t34 v228 v257 k0_hw21 k0_t47)
theorem k0_off1782_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1782 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t47
theorem k0_off1782_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1782 v1 k0_t34 v228 v257 k0_t47) S1x1x1x16x128.size (k0_off1782_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t47 (k0_off1782_inb v1 k0_t34 v228 v257 k0_hw21 k0_t47)
theorem k0_off1783_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1783 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t47
theorem k0_off1783_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1783 v1 k0_t34 v228 v257 k0_t47) S1x1x1x16x128.size (k0_off1783_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t47 (k0_off1783_inb v1 k0_t34 v228 v257 k0_hw21 k0_t47)
theorem k0_off1784_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1784 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.1 k0_t47
theorem k0_off1784_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1784 v1 k0_t34 v228 v257 k0_t47) S1x1x1x16x128.size (k0_off1784_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.2.1 k0_t47 (k0_off1784_inb v1 k0_t34 v228 v257 k0_hw21 k0_t47)
theorem k0_off1785_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1785 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.2.2.1 k0_t47
theorem k0_off1785_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1785 v1 k0_t34 v228 v257 k0_t47) S1x1x1x16x128.size (k0_off1785_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.2.2.2.1 k0_t47 (k0_off1785_inb v1 k0_t34 v228 v257 k0_hw21 k0_t47)
theorem k0_off1786_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1786 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.2.2.2.2.1 k0_t47
theorem k0_off1786_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1786 v1 k0_t34 v228 v257 k0_t47) S1x1x1x16x128.size (k0_off1786_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.2.2.2.2.2.1 k0_t47 (k0_off1786_inb v1 k0_t34 v228 v257 k0_hw21 k0_t47)
theorem k0_off1787_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1787 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t47
theorem k0_off1787_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1787 v1 k0_t34 v228 v257 k0_t47) S1x1x1x16x128.size (k0_off1787_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t47 (k0_off1787_inb v1 k0_t34 v228 v257 k0_hw21 k0_t47)
theorem k0_off1788_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1788 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t47
theorem k0_off1788_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1788 v1 k0_t34 v228 v257 k0_t47) S1x1x1x16x128.size (k0_off1788_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t47 (k0_off1788_inb v1 k0_t34 v228 v257 k0_hw21 k0_t47)
theorem k0_off1789_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1789 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t47
theorem k0_off1789_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1789 v1 k0_t34 v228 v257 k0_t47) S1x1x1x16x128.size (k0_off1789_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t47 (k0_off1789_inb v1 k0_t34 v228 v257 k0_hw21 k0_t47)
theorem k0_off1790_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1790 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t47
theorem k0_off1790_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1790 v1 k0_t34 v228 v257 k0_t47) S1x1x1x16x128.size (k0_off1790_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t47 (k0_off1790_inb v1 k0_t34 v228 v257 k0_hw21 k0_t47)
theorem k0_off1791_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1791 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t47
theorem k0_off1791_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1791 v1 k0_t34 v228 v257 k0_t47) S1x1x1x16x128.size (k0_off1791_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t47 (k0_off1791_inb v1 k0_t34 v228 v257 k0_hw21 k0_t47)
theorem k0_off1792_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1792 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t47
theorem k0_off1792_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1792 v1 k0_t34 v228 v257 k0_t47) S1x1x1x16x128.size (k0_off1792_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t47 (k0_off1792_inb v1 k0_t34 v228 v257 k0_hw21 k0_t47)
theorem k0_off1793_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1793 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t47
theorem k0_off1793_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1793 v1 k0_t34 v228 v257 k0_t47) S1x1x1x16x128.size (k0_off1793_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t47 (k0_off1793_inb v1 k0_t34 v228 v257 k0_hw21 k0_t47)
theorem k0_off1794_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1794 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t47
theorem k0_off1794_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1794 v1 k0_t34 v228 v257 k0_t47) S1x1x1x16x128.size (k0_off1794_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t47 (k0_off1794_inb v1 k0_t34 v228 v257 k0_hw21 k0_t47)
theorem k0_off1795_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1795 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t47
theorem k0_off1795_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1795 v1 k0_t34 v228 v257 k0_t47) S1x1x1x16x128.size (k0_off1795_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t47 (k0_off1795_inb v1 k0_t34 v228 v257 k0_hw21 k0_t47)
theorem k0_off1796_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1796 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t47
theorem k0_off1796_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1796 v1 k0_t34 v228 v257 k0_t47) S1x1x1x16x128.size (k0_off1796_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t47 (k0_off1796_inb v1 k0_t34 v228 v257 k0_hw21 k0_t47)
theorem k0_off1797_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1797 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t47
theorem k0_off1797_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1797 v1 k0_t34 v228 v257 k0_t47) S1x1x1x16x128.size (k0_off1797_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t47 (k0_off1797_inb v1 k0_t34 v228 v257 k0_hw21 k0_t47)
theorem k0_off1798_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1798 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t47
theorem k0_off1798_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1798 v1 k0_t34 v228 v257 k0_t47) S1x1x1x16x128.size (k0_off1798_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t47 (k0_off1798_inb v1 k0_t34 v228 v257 k0_hw21 k0_t47)
theorem k0_off1799_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1799 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t47
theorem k0_off1799_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1799 v1 k0_t34 v228 v257 k0_t47) S1x1x1x16x128.size (k0_off1799_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t47 (k0_off1799_inb v1 k0_t34 v228 v257 k0_hw21 k0_t47)
theorem k0_off1800_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1800 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.1 k0_t47
theorem k0_off1800_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1800 v1 k0_t34 v228 v257 k0_t47) S1x1x1x16x128.size (k0_off1800_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.2.1 k0_t47 (k0_off1800_inb v1 k0_t34 v228 v257 k0_hw21 k0_t47)
theorem k0_off1801_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1801 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.2.2.1 k0_t47
theorem k0_off1801_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1801 v1 k0_t34 v228 v257 k0_t47) S1x1x1x16x128.size (k0_off1801_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.2.2.2.1 k0_t47 (k0_off1801_inb v1 k0_t34 v228 v257 k0_hw21 k0_t47)
theorem k0_off1802_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1802 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.2.2.2.2.1 k0_t47
theorem k0_off1802_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1802 v1 k0_t34 v228 v257 k0_t47) S1x1x1x16x128.size (k0_off1802_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t47 (k0_off1802_inb v1 k0_t34 v228 v257 k0_hw21 k0_t47)
theorem k0_off1803_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1803 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t47
theorem k0_off1803_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1803 v1 k0_t34 v228 v257 k0_t47) S1x1x1x16x128.size (k0_off1803_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t47 (k0_off1803_inb v1 k0_t34 v228 v257 k0_hw21 k0_t47)
theorem k0_off1804_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1804 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t47
theorem k0_off1804_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1804 v1 k0_t34 v228 v257 k0_t47) S1x1x1x16x128.size (k0_off1804_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t47 (k0_off1804_inb v1 k0_t34 v228 v257 k0_hw21 k0_t47)
theorem k0_off1805_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1805 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t47
theorem k0_off1805_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1805 v1 k0_t34 v228 v257 k0_t47) S1x1x1x16x128.size (k0_off1805_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t47 (k0_off1805_inb v1 k0_t34 v228 v257 k0_hw21 k0_t47)
theorem k0_off1806_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1806 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t47
theorem k0_off1806_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1806 v1 k0_t34 v228 v257 k0_t47) S1x1x1x16x128.size (k0_off1806_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t47 (k0_off1806_inb v1 k0_t34 v228 v257 k0_hw21 k0_t47)
theorem k0_off1807_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1807 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t47
theorem k0_off1807_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1807 v1 k0_t34 v228 v257 k0_t47) S1x1x1x16x128.size (k0_off1807_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t47 (k0_off1807_inb v1 k0_t34 v228 v257 k0_hw21 k0_t47)
theorem k0_off1808_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1808 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t47
theorem k0_off1808_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1808 v1 k0_t34 v228 v257 k0_t47) S1x1x1x16x128.size (k0_off1808_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t47 (k0_off1808_inb v1 k0_t34 v228 v257 k0_hw21 k0_t47)
theorem k0_off1809_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1809 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t47
theorem k0_off1809_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1809 v1 k0_t34 v228 v257 k0_t47) S1x1x1x16x128.size (k0_off1809_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t47 (k0_off1809_inb v1 k0_t34 v228 v257 k0_hw21 k0_t47)
theorem k0_off1810_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1810 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t47
theorem k0_off1810_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1810 v1 k0_t34 v228 v257 k0_t47) S1x1x1x16x128.size (k0_off1810_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t47 (k0_off1810_inb v1 k0_t34 v228 v257 k0_hw21 k0_t47)
theorem k0_off1811_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1811 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t47
theorem k0_off1811_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1811 v1 k0_t34 v228 v257 k0_t47) S1x1x1x16x128.size (k0_off1811_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t47 (k0_off1811_inb v1 k0_t34 v228 v257 k0_hw21 k0_t47)
theorem k0_off1812_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1812 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t47
theorem k0_off1812_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1812 v1 k0_t34 v228 v257 k0_t47) S1x1x1x16x128.size (k0_off1812_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t47 (k0_off1812_inb v1 k0_t34 v228 v257 k0_hw21 k0_t47)
theorem k0_off1813_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1813 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t47
theorem k0_off1813_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1813 v1 k0_t34 v228 v257 k0_t47) S1x1x1x16x128.size (k0_off1813_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t47 (k0_off1813_inb v1 k0_t34 v228 v257 k0_hw21 k0_t47)
theorem k0_off1814_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1814 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t47
theorem k0_off1814_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1814 v1 k0_t34 v228 v257 k0_t47) S1x1x1x16x128.size (k0_off1814_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t47 (k0_off1814_inb v1 k0_t34 v228 v257 k0_hw21 k0_t47)
theorem k0_off1815_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1815 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t47
theorem k0_off1815_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1815 v1 k0_t34 v228 v257 k0_t47) S1x1x1x16x128.size (k0_off1815_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t47 (k0_off1815_inb v1 k0_t34 v228 v257 k0_hw21 k0_t47)
theorem k0_off1816_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1816 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.1 k0_t47
theorem k0_off1816_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1816 v1 k0_t34 v228 v257 k0_t47) S1x1x1x16x128.size (k0_off1816_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.2.1 k0_t47 (k0_off1816_inb v1 k0_t34 v228 v257 k0_hw21 k0_t47)
theorem k0_off1817_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1817 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.2.2.1 k0_t47
theorem k0_off1817_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1817 v1 k0_t34 v228 v257 k0_t47) S1x1x1x16x128.size (k0_off1817_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.2.2.2.1 k0_t47 (k0_off1817_inb v1 k0_t34 v228 v257 k0_hw21 k0_t47)
theorem k0_off1818_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1818 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t47
theorem k0_off1818_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1818 v1 k0_t34 v228 v257 k0_t47) S1x1x1x16x128.size (k0_off1818_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t47 (k0_off1818_inb v1 k0_t34 v228 v257 k0_hw21 k0_t47)
theorem k0_off1819_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1819 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t47
theorem k0_off1819_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1819 v1 k0_t34 v228 v257 k0_t47) S1x1x1x16x128.size (k0_off1819_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t47 (k0_off1819_inb v1 k0_t34 v228 v257 k0_hw21 k0_t47)
theorem k0_off1820_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1820 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t47
theorem k0_off1820_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1820 v1 k0_t34 v228 v257 k0_t47) S1x1x1x16x128.size (k0_off1820_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t47 (k0_off1820_inb v1 k0_t34 v228 v257 k0_hw21 k0_t47)
theorem k0_off1821_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1821 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t47
theorem k0_off1821_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1821 v1 k0_t34 v228 v257 k0_t47) S1x1x1x16x128.size (k0_off1821_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t47 (k0_off1821_inb v1 k0_t34 v228 v257 k0_hw21 k0_t47)
theorem k0_off1822_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1822 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t47
theorem k0_off1822_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1822 v1 k0_t34 v228 v257 k0_t47) S1x1x1x16x128.size (k0_off1822_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t47 (k0_off1822_inb v1 k0_t34 v228 v257 k0_hw21 k0_t47)
theorem k0_off1823_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1823 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t47
theorem k0_off1823_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1823 v1 k0_t34 v228 v257 k0_t47) S1x1x1x16x128.size (k0_off1823_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t47 (k0_off1823_inb v1 k0_t34 v228 v257 k0_hw21 k0_t47)
theorem k0_off1824_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1824 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t47
theorem k0_off1824_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1824 v1 k0_t34 v228 v257 k0_t47) S1x1x1x16x128.size (k0_off1824_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t47 (k0_off1824_inb v1 k0_t34 v228 v257 k0_hw21 k0_t47)
theorem k0_off1825_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1825 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t47
theorem k0_off1825_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1825 v1 k0_t34 v228 v257 k0_t47) S1x1x1x16x128.size (k0_off1825_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t47 (k0_off1825_inb v1 k0_t34 v228 v257 k0_hw21 k0_t47)
theorem k0_off1826_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1826 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t47
theorem k0_off1826_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1826 v1 k0_t34 v228 v257 k0_t47) S1x1x1x16x128.size (k0_off1826_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t47 (k0_off1826_inb v1 k0_t34 v228 v257 k0_hw21 k0_t47)
theorem k0_off1827_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1827 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t47
theorem k0_off1827_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1827 v1 k0_t34 v228 v257 k0_t47) S1x1x1x16x128.size (k0_off1827_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t47 (k0_off1827_inb v1 k0_t34 v228 v257 k0_hw21 k0_t47)
theorem k0_off1828_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1828 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t47
theorem k0_off1828_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1828 v1 k0_t34 v228 v257 k0_t47) S1x1x1x16x128.size (k0_off1828_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t47 (k0_off1828_inb v1 k0_t34 v228 v257 k0_hw21 k0_t47)
theorem k0_off1829_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1829 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t47
theorem k0_off1829_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1829 v1 k0_t34 v228 v257 k0_t47) S1x1x1x16x128.size (k0_off1829_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t47 (k0_off1829_inb v1 k0_t34 v228 v257 k0_hw21 k0_t47)
theorem k0_off1830_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1830 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t47
theorem k0_off1830_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1830 v1 k0_t34 v228 v257 k0_t47) S1x1x1x16x128.size (k0_off1830_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t47 (k0_off1830_inb v1 k0_t34 v228 v257 k0_hw21 k0_t47)
theorem k0_off1831_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1831 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t47
theorem k0_off1831_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1831 v1 k0_t34 v228 v257 k0_t47) S1x1x1x16x128.size (k0_off1831_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t47 (k0_off1831_inb v1 k0_t34 v228 v257 k0_hw21 k0_t47)
theorem k0_off1832_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1832 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.2.1.1 k0_t47
theorem k0_off1832_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1832 v1 k0_t34 v228 v257 k0_t47) S1x1x1x16x128.size (k0_off1832_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.2.1.2.1 k0_t47 (k0_off1832_inb v1 k0_t34 v228 v257 k0_hw21 k0_t47)
theorem k0_off1833_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1833 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.2.1.2.2.1 k0_t47
theorem k0_off1833_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1833 v1 k0_t34 v228 v257 k0_t47) S1x1x1x16x128.size (k0_off1833_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.2.1.2.2.2.1 k0_t47 (k0_off1833_inb v1 k0_t34 v228 v257 k0_hw21 k0_t47)
theorem k0_off1834_inb : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), ∀ a, (k0_off1834 v1 k0_t34 v228 v257 k0_t47) a + S1x1x1x16x128.size a ≤ S2x2x108x128x128.size a := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t47
theorem k0_off1834_packedbf16 : ∀ (v1 : BitVec 32) (k0_t34 : Fin (k0_t34_loop v1).trips) (v228 : BitVec 32) (v257 : BitVec 32) (k0_hw21 : k0_chk21 v1 k0_t34 v228 v257) (k0_t47 : Fin (k0_t47_loop v228 v257).trips), (Rect.unit (s := S2x2x108x128x128) (k0_off1834 v1 k0_t34 v228 v257 k0_t47) S1x1x1x16x128.size (k0_off1834_inb v1 k0_t34 v228 v257 k0_hw21 k0_t47)).PackedRows (EltTy.packing .bf16) := fun v1 k0_t34 v228 v257 k0_hw21 k0_t47 => k0_hw21.2.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t47 (k0_off1834_inb v1 k0_t34 v228 v257 k0_hw21 k0_t47)
theorem k0_t48_ok : ∀ (v1 : BitVec 32) (k0_t34 : Fin (k0_t34_loop v1).trips) (v228 : BitVec 32) (v257 : BitVec 32) (k0_hw21 : k0_chk21 v1 k0_t34 v228 v257), (k0_t48_loop v228 v257).OK := fun v1 k0_t34 v228 v257 k0_hw21 => k0_hw21.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.1
theorem k0_mult15_dvd : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), 16 ∣ (k0_mult15 v228 v257 k0_t48).toNat := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t48
theorem k0_off1835_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1835 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t48
theorem k0_off1835_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1835 v1 k0_t34 v228 v257 k0_t48) S1x1x1x16x128.size (k0_off1835_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t48 (k0_off1835_inb v1 k0_t34 v228 v257 k0_hw21 k0_t48)
theorem k0_off1836_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1836 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t48
theorem k0_off1836_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1836 v1 k0_t34 v228 v257 k0_t48) S1x1x1x16x128.size (k0_off1836_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t48 (k0_off1836_inb v1 k0_t34 v228 v257 k0_hw21 k0_t48)
theorem k0_off1837_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1837 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t48
theorem k0_off1837_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1837 v1 k0_t34 v228 v257 k0_t48) S1x1x1x16x128.size (k0_off1837_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t48 (k0_off1837_inb v1 k0_t34 v228 v257 k0_hw21 k0_t48)
theorem k0_off1838_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1838 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t48
theorem k0_off1838_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1838 v1 k0_t34 v228 v257 k0_t48) S1x1x1x16x128.size (k0_off1838_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t48 (k0_off1838_inb v1 k0_t34 v228 v257 k0_hw21 k0_t48)
theorem k0_off1839_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1839 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t48
theorem k0_off1839_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1839 v1 k0_t34 v228 v257 k0_t48) S1x1x1x16x128.size (k0_off1839_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t48 (k0_off1839_inb v1 k0_t34 v228 v257 k0_hw21 k0_t48)
theorem k0_off1840_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1840 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t48
theorem k0_off1840_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1840 v1 k0_t34 v228 v257 k0_t48) S1x1x1x16x128.size (k0_off1840_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t48 (k0_off1840_inb v1 k0_t34 v228 v257 k0_hw21 k0_t48)
theorem k0_off1841_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1841 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t48
theorem k0_off1841_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1841 v1 k0_t34 v228 v257 k0_t48) S1x1x1x16x128.size (k0_off1841_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t48 (k0_off1841_inb v1 k0_t34 v228 v257 k0_hw21 k0_t48)
theorem k0_off1842_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1842 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t48
theorem k0_off1842_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1842 v1 k0_t34 v228 v257 k0_t48) S1x1x1x16x128.size (k0_off1842_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t48 (k0_off1842_inb v1 k0_t34 v228 v257 k0_hw21 k0_t48)
theorem k0_off1843_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1843 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t48
theorem k0_off1843_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1843 v1 k0_t34 v228 v257 k0_t48) S1x1x1x16x128.size (k0_off1843_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t48 (k0_off1843_inb v1 k0_t34 v228 v257 k0_hw21 k0_t48)
theorem k0_off1844_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1844 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t48
theorem k0_off1844_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1844 v1 k0_t34 v228 v257 k0_t48) S1x1x1x16x128.size (k0_off1844_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t48 (k0_off1844_inb v1 k0_t34 v228 v257 k0_hw21 k0_t48)
theorem k0_off1845_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1845 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t48
theorem k0_off1845_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1845 v1 k0_t34 v228 v257 k0_t48) S1x1x1x16x128.size (k0_off1845_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t48 (k0_off1845_inb v1 k0_t34 v228 v257 k0_hw21 k0_t48)
theorem k0_off1846_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1846 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t48
theorem k0_off1846_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1846 v1 k0_t34 v228 v257 k0_t48) S1x1x1x16x128.size (k0_off1846_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t48 (k0_off1846_inb v1 k0_t34 v228 v257 k0_hw21 k0_t48)
theorem k0_off1847_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1847 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.1 k0_t48
theorem k0_off1847_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1847 v1 k0_t34 v228 v257 k0_t48) S1x1x1x16x128.size (k0_off1847_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.2.1 k0_t48 (k0_off1847_inb v1 k0_t34 v228 v257 k0_hw21 k0_t48)
theorem k0_off1848_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1848 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.2.2.1 k0_t48
theorem k0_off1848_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1848 v1 k0_t34 v228 v257 k0_t48) S1x1x1x16x128.size (k0_off1848_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.2.2.2.1 k0_t48 (k0_off1848_inb v1 k0_t34 v228 v257 k0_hw21 k0_t48)
theorem k0_off1849_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1849 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t48
theorem k0_off1849_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1849 v1 k0_t34 v228 v257 k0_t48) S1x1x1x16x128.size (k0_off1849_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t48 (k0_off1849_inb v1 k0_t34 v228 v257 k0_hw21 k0_t48)
theorem k0_off1850_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1850 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t48
theorem k0_off1850_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1850 v1 k0_t34 v228 v257 k0_t48) S1x1x1x16x128.size (k0_off1850_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t48 (k0_off1850_inb v1 k0_t34 v228 v257 k0_hw21 k0_t48)
theorem k0_off1851_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1851 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t48
theorem k0_off1851_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1851 v1 k0_t34 v228 v257 k0_t48) S1x1x1x16x128.size (k0_off1851_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t48 (k0_off1851_inb v1 k0_t34 v228 v257 k0_hw21 k0_t48)
theorem k0_off1852_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1852 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t48
theorem k0_off1852_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1852 v1 k0_t34 v228 v257 k0_t48) S1x1x1x16x128.size (k0_off1852_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t48 (k0_off1852_inb v1 k0_t34 v228 v257 k0_hw21 k0_t48)
theorem k0_off1853_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1853 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t48
theorem k0_off1853_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1853 v1 k0_t34 v228 v257 k0_t48) S1x1x1x16x128.size (k0_off1853_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t48 (k0_off1853_inb v1 k0_t34 v228 v257 k0_hw21 k0_t48)
theorem k0_off1854_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1854 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t48
theorem k0_off1854_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1854 v1 k0_t34 v228 v257 k0_t48) S1x1x1x16x128.size (k0_off1854_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t48 (k0_off1854_inb v1 k0_t34 v228 v257 k0_hw21 k0_t48)
theorem k0_off1855_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1855 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t48
theorem k0_off1855_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1855 v1 k0_t34 v228 v257 k0_t48) S1x1x1x16x128.size (k0_off1855_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t48 (k0_off1855_inb v1 k0_t34 v228 v257 k0_hw21 k0_t48)
theorem k0_off1856_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1856 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t48
theorem k0_off1856_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1856 v1 k0_t34 v228 v257 k0_t48) S1x1x1x16x128.size (k0_off1856_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t48 (k0_off1856_inb v1 k0_t34 v228 v257 k0_hw21 k0_t48)
theorem k0_off1857_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1857 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t48
theorem k0_off1857_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1857 v1 k0_t34 v228 v257 k0_t48) S1x1x1x16x128.size (k0_off1857_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t48 (k0_off1857_inb v1 k0_t34 v228 v257 k0_hw21 k0_t48)
theorem k0_off1858_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1858 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t48
theorem k0_off1858_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1858 v1 k0_t34 v228 v257 k0_t48) S1x1x1x16x128.size (k0_off1858_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t48 (k0_off1858_inb v1 k0_t34 v228 v257 k0_hw21 k0_t48)
theorem k0_off1859_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1859 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t48
theorem k0_off1859_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1859 v1 k0_t34 v228 v257 k0_t48) S1x1x1x16x128.size (k0_off1859_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t48 (k0_off1859_inb v1 k0_t34 v228 v257 k0_hw21 k0_t48)
theorem k0_off1860_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1860 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t48
theorem k0_off1860_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1860 v1 k0_t34 v228 v257 k0_t48) S1x1x1x16x128.size (k0_off1860_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t48 (k0_off1860_inb v1 k0_t34 v228 v257 k0_hw21 k0_t48)
theorem k0_off1861_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1861 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t48
theorem k0_off1861_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1861 v1 k0_t34 v228 v257 k0_t48) S1x1x1x16x128.size (k0_off1861_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t48 (k0_off1861_inb v1 k0_t34 v228 v257 k0_hw21 k0_t48)
theorem k0_off1862_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1862 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t48
theorem k0_off1862_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1862 v1 k0_t34 v228 v257 k0_t48) S1x1x1x16x128.size (k0_off1862_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t48 (k0_off1862_inb v1 k0_t34 v228 v257 k0_hw21 k0_t48)
theorem k0_off1863_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1863 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.1 k0_t48
theorem k0_off1863_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1863 v1 k0_t34 v228 v257 k0_t48) S1x1x1x16x128.size (k0_off1863_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.2.1 k0_t48 (k0_off1863_inb v1 k0_t34 v228 v257 k0_hw21 k0_t48)
theorem k0_off1864_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1864 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.2.2.1 k0_t48
theorem k0_off1864_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1864 v1 k0_t34 v228 v257 k0_t48) S1x1x1x16x128.size (k0_off1864_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.2.2.2.1 k0_t48 (k0_off1864_inb v1 k0_t34 v228 v257 k0_hw21 k0_t48)
theorem k0_off1865_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1865 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t48
theorem k0_off1865_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1865 v1 k0_t34 v228 v257 k0_t48) S1x1x1x16x128.size (k0_off1865_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t48 (k0_off1865_inb v1 k0_t34 v228 v257 k0_hw21 k0_t48)
theorem k0_off1866_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1866 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t48
theorem k0_off1866_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1866 v1 k0_t34 v228 v257 k0_t48) S1x1x1x16x128.size (k0_off1866_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t48 (k0_off1866_inb v1 k0_t34 v228 v257 k0_hw21 k0_t48)
theorem k0_off1867_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1867 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t48
theorem k0_off1867_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1867 v1 k0_t34 v228 v257 k0_t48) S1x1x1x16x128.size (k0_off1867_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t48 (k0_off1867_inb v1 k0_t34 v228 v257 k0_hw21 k0_t48)
theorem k0_off1868_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1868 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t48
theorem k0_off1868_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1868 v1 k0_t34 v228 v257 k0_t48) S1x1x1x16x128.size (k0_off1868_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t48 (k0_off1868_inb v1 k0_t34 v228 v257 k0_hw21 k0_t48)
theorem k0_off1869_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1869 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t48
theorem k0_off1869_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1869 v1 k0_t34 v228 v257 k0_t48) S1x1x1x16x128.size (k0_off1869_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t48 (k0_off1869_inb v1 k0_t34 v228 v257 k0_hw21 k0_t48)
theorem k0_off1870_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1870 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t48
theorem k0_off1870_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1870 v1 k0_t34 v228 v257 k0_t48) S1x1x1x16x128.size (k0_off1870_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t48 (k0_off1870_inb v1 k0_t34 v228 v257 k0_hw21 k0_t48)
theorem k0_off1871_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1871 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t48
theorem k0_off1871_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1871 v1 k0_t34 v228 v257 k0_t48) S1x1x1x16x128.size (k0_off1871_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t48 (k0_off1871_inb v1 k0_t34 v228 v257 k0_hw21 k0_t48)
theorem k0_off1872_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1872 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t48
theorem k0_off1872_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1872 v1 k0_t34 v228 v257 k0_t48) S1x1x1x16x128.size (k0_off1872_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t48 (k0_off1872_inb v1 k0_t34 v228 v257 k0_hw21 k0_t48)
theorem k0_off1873_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1873 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t48
theorem k0_off1873_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1873 v1 k0_t34 v228 v257 k0_t48) S1x1x1x16x128.size (k0_off1873_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t48 (k0_off1873_inb v1 k0_t34 v228 v257 k0_hw21 k0_t48)
theorem k0_off1874_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1874 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t48
theorem k0_off1874_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1874 v1 k0_t34 v228 v257 k0_t48) S1x1x1x16x128.size (k0_off1874_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t48 (k0_off1874_inb v1 k0_t34 v228 v257 k0_hw21 k0_t48)
theorem k0_off1875_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1875 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t48
theorem k0_off1875_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1875 v1 k0_t34 v228 v257 k0_t48) S1x1x1x16x128.size (k0_off1875_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t48 (k0_off1875_inb v1 k0_t34 v228 v257 k0_hw21 k0_t48)
theorem k0_off1876_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1876 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t48
theorem k0_off1876_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1876 v1 k0_t34 v228 v257 k0_t48) S1x1x1x16x128.size (k0_off1876_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t48 (k0_off1876_inb v1 k0_t34 v228 v257 k0_hw21 k0_t48)
theorem k0_off1877_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1877 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t48
theorem k0_off1877_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1877 v1 k0_t34 v228 v257 k0_t48) S1x1x1x16x128.size (k0_off1877_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t48 (k0_off1877_inb v1 k0_t34 v228 v257 k0_hw21 k0_t48)
theorem k0_off1878_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1878 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t48
theorem k0_off1878_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1878 v1 k0_t34 v228 v257 k0_t48) S1x1x1x16x128.size (k0_off1878_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t48 (k0_off1878_inb v1 k0_t34 v228 v257 k0_hw21 k0_t48)
theorem k0_off1879_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1879 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.1 k0_t48
theorem k0_off1879_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1879 v1 k0_t34 v228 v257 k0_t48) S1x1x1x16x128.size (k0_off1879_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.2.1 k0_t48 (k0_off1879_inb v1 k0_t34 v228 v257 k0_hw21 k0_t48)
theorem k0_off1880_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1880 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.2.2.1 k0_t48
theorem k0_off1880_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1880 v1 k0_t34 v228 v257 k0_t48) S1x1x1x16x128.size (k0_off1880_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.1 k0_t48 (k0_off1880_inb v1 k0_t34 v228 v257 k0_hw21 k0_t48)
theorem k0_off1881_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1881 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t48
theorem k0_off1881_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1881 v1 k0_t34 v228 v257 k0_t48) S1x1x1x16x128.size (k0_off1881_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t48 (k0_off1881_inb v1 k0_t34 v228 v257 k0_hw21 k0_t48)
theorem k0_off1882_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1882 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t48
theorem k0_off1882_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1882 v1 k0_t34 v228 v257 k0_t48) S1x1x1x16x128.size (k0_off1882_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t48 (k0_off1882_inb v1 k0_t34 v228 v257 k0_hw21 k0_t48)
theorem k0_off1883_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1883 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t48
theorem k0_off1883_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1883 v1 k0_t34 v228 v257 k0_t48) S1x1x1x16x128.size (k0_off1883_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t48 (k0_off1883_inb v1 k0_t34 v228 v257 k0_hw21 k0_t48)
theorem k0_off1884_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1884 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t48
theorem k0_off1884_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1884 v1 k0_t34 v228 v257 k0_t48) S1x1x1x16x128.size (k0_off1884_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t48 (k0_off1884_inb v1 k0_t34 v228 v257 k0_hw21 k0_t48)
theorem k0_off1885_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1885 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t48
theorem k0_off1885_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1885 v1 k0_t34 v228 v257 k0_t48) S1x1x1x16x128.size (k0_off1885_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t48 (k0_off1885_inb v1 k0_t34 v228 v257 k0_hw21 k0_t48)
theorem k0_off1886_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1886 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t48
theorem k0_off1886_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1886 v1 k0_t34 v228 v257 k0_t48) S1x1x1x16x128.size (k0_off1886_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t48 (k0_off1886_inb v1 k0_t34 v228 v257 k0_hw21 k0_t48)
theorem k0_off1887_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1887 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t48
theorem k0_off1887_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1887 v1 k0_t34 v228 v257 k0_t48) S1x1x1x16x128.size (k0_off1887_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t48 (k0_off1887_inb v1 k0_t34 v228 v257 k0_hw21 k0_t48)
theorem k0_off1888_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1888 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t48
theorem k0_off1888_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1888 v1 k0_t34 v228 v257 k0_t48) S1x1x1x16x128.size (k0_off1888_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t48 (k0_off1888_inb v1 k0_t34 v228 v257 k0_hw21 k0_t48)
theorem k0_off1889_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1889 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t48
theorem k0_off1889_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1889 v1 k0_t34 v228 v257 k0_t48) S1x1x1x16x128.size (k0_off1889_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t48 (k0_off1889_inb v1 k0_t34 v228 v257 k0_hw21 k0_t48)
theorem k0_off1890_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1890 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t48
theorem k0_off1890_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1890 v1 k0_t34 v228 v257 k0_t48) S1x1x1x16x128.size (k0_off1890_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t48 (k0_off1890_inb v1 k0_t34 v228 v257 k0_hw21 k0_t48)
theorem k0_off1891_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1891 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t48
theorem k0_off1891_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1891 v1 k0_t34 v228 v257 k0_t48) S1x1x1x16x128.size (k0_off1891_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t48 (k0_off1891_inb v1 k0_t34 v228 v257 k0_hw21 k0_t48)
theorem k0_off1892_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1892 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t48
theorem k0_off1892_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1892 v1 k0_t34 v228 v257 k0_t48) S1x1x1x16x128.size (k0_off1892_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t48 (k0_off1892_inb v1 k0_t34 v228 v257 k0_hw21 k0_t48)
theorem k0_off1893_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1893 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t48
theorem k0_off1893_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1893 v1 k0_t34 v228 v257 k0_t48) S1x1x1x16x128.size (k0_off1893_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t48 (k0_off1893_inb v1 k0_t34 v228 v257 k0_hw21 k0_t48)
theorem k0_off1894_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1894 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t48
theorem k0_off1894_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1894 v1 k0_t34 v228 v257 k0_t48) S1x1x1x16x128.size (k0_off1894_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t48 (k0_off1894_inb v1 k0_t34 v228 v257 k0_hw21 k0_t48)
theorem k0_off1895_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1895 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.1 k0_t48
theorem k0_off1895_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1895 v1 k0_t34 v228 v257 k0_t48) S1x1x1x16x128.size (k0_off1895_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.2.1 k0_t48 (k0_off1895_inb v1 k0_t34 v228 v257 k0_hw21 k0_t48)
theorem k0_off1896_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1896 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.1 k0_t48
theorem k0_off1896_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1896 v1 k0_t34 v228 v257 k0_t48) S1x1x1x16x128.size (k0_off1896_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.1 k0_t48 (k0_off1896_inb v1 k0_t34 v228 v257 k0_hw21 k0_t48)
theorem k0_off1897_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1897 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t48
theorem k0_off1897_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1897 v1 k0_t34 v228 v257 k0_t48) S1x1x1x16x128.size (k0_off1897_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t48 (k0_off1897_inb v1 k0_t34 v228 v257 k0_hw21 k0_t48)
theorem k0_off1898_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1898 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t48
theorem k0_off1898_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1898 v1 k0_t34 v228 v257 k0_t48) S1x1x1x16x128.size (k0_off1898_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t48 (k0_off1898_inb v1 k0_t34 v228 v257 k0_hw21 k0_t48)
theorem k0_off1899_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1899 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t48
theorem k0_off1899_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1899 v1 k0_t34 v228 v257 k0_t48) S1x1x1x16x128.size (k0_off1899_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t48 (k0_off1899_inb v1 k0_t34 v228 v257 k0_hw21 k0_t48)
theorem k0_off1900_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1900 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t48
theorem k0_off1900_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1900 v1 k0_t34 v228 v257 k0_t48) S1x1x1x16x128.size (k0_off1900_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t48 (k0_off1900_inb v1 k0_t34 v228 v257 k0_hw21 k0_t48)
theorem k0_off1901_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1901 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t48
theorem k0_off1901_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1901 v1 k0_t34 v228 v257 k0_t48) S1x1x1x16x128.size (k0_off1901_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t48 (k0_off1901_inb v1 k0_t34 v228 v257 k0_hw21 k0_t48)
theorem k0_off1902_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1902 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t48
theorem k0_off1902_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1902 v1 k0_t34 v228 v257 k0_t48) S1x1x1x16x128.size (k0_off1902_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t48 (k0_off1902_inb v1 k0_t34 v228 v257 k0_hw21 k0_t48)
theorem k0_off1903_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1903 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t48
theorem k0_off1903_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1903 v1 k0_t34 v228 v257 k0_t48) S1x1x1x16x128.size (k0_off1903_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t48 (k0_off1903_inb v1 k0_t34 v228 v257 k0_hw21 k0_t48)
theorem k0_off1904_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1904 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t48
theorem k0_off1904_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1904 v1 k0_t34 v228 v257 k0_t48) S1x1x1x16x128.size (k0_off1904_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t48 (k0_off1904_inb v1 k0_t34 v228 v257 k0_hw21 k0_t48)
theorem k0_off1905_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1905 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t48
theorem k0_off1905_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1905 v1 k0_t34 v228 v257 k0_t48) S1x1x1x16x128.size (k0_off1905_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t48 (k0_off1905_inb v1 k0_t34 v228 v257 k0_hw21 k0_t48)
theorem k0_off1906_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1906 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t48
theorem k0_off1906_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1906 v1 k0_t34 v228 v257 k0_t48) S1x1x1x16x128.size (k0_off1906_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t48 (k0_off1906_inb v1 k0_t34 v228 v257 k0_hw21 k0_t48)
theorem k0_off1907_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1907 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t48
theorem k0_off1907_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1907 v1 k0_t34 v228 v257 k0_t48) S1x1x1x16x128.size (k0_off1907_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t48 (k0_off1907_inb v1 k0_t34 v228 v257 k0_hw21 k0_t48)
theorem k0_off1908_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1908 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t48
theorem k0_off1908_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1908 v1 k0_t34 v228 v257 k0_t48) S1x1x1x16x128.size (k0_off1908_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t48 (k0_off1908_inb v1 k0_t34 v228 v257 k0_hw21 k0_t48)
theorem k0_off1909_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1909 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t48
theorem k0_off1909_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1909 v1 k0_t34 v228 v257 k0_t48) S1x1x1x16x128.size (k0_off1909_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t48 (k0_off1909_inb v1 k0_t34 v228 v257 k0_hw21 k0_t48)
theorem k0_off1910_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1910 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t48
theorem k0_off1910_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1910 v1 k0_t34 v228 v257 k0_t48) S1x1x1x16x128.size (k0_off1910_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t48 (k0_off1910_inb v1 k0_t34 v228 v257 k0_hw21 k0_t48)
theorem k0_off1911_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1911 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.1 k0_t48
theorem k0_off1911_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1911 v1 k0_t34 v228 v257 k0_t48) S1x1x1x16x128.size (k0_off1911_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.1 k0_t48 (k0_off1911_inb v1 k0_t34 v228 v257 k0_hw21 k0_t48)
theorem k0_off1912_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1912 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.1 k0_t48
theorem k0_off1912_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1912 v1 k0_t34 v228 v257 k0_t48) S1x1x1x16x128.size (k0_off1912_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.1 k0_t48 (k0_off1912_inb v1 k0_t34 v228 v257 k0_hw21 k0_t48)
theorem k0_off1913_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1913 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t48
theorem k0_off1913_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1913 v1 k0_t34 v228 v257 k0_t48) S1x1x1x16x128.size (k0_off1913_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t48 (k0_off1913_inb v1 k0_t34 v228 v257 k0_hw21 k0_t48)
theorem k0_off1914_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1914 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t48
theorem k0_off1914_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1914 v1 k0_t34 v228 v257 k0_t48) S1x1x1x16x128.size (k0_off1914_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t48 (k0_off1914_inb v1 k0_t34 v228 v257 k0_hw21 k0_t48)
theorem k0_off1915_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1915 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t48
theorem k0_off1915_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1915 v1 k0_t34 v228 v257 k0_t48) S1x1x1x16x128.size (k0_off1915_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t48 (k0_off1915_inb v1 k0_t34 v228 v257 k0_hw21 k0_t48)
theorem k0_off1916_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1916 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t48
theorem k0_off1916_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1916 v1 k0_t34 v228 v257 k0_t48) S1x1x1x16x128.size (k0_off1916_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t48 (k0_off1916_inb v1 k0_t34 v228 v257 k0_hw21 k0_t48)
theorem k0_off1917_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1917 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t48
theorem k0_off1917_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1917 v1 k0_t34 v228 v257 k0_t48) S1x1x1x16x128.size (k0_off1917_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t48 (k0_off1917_inb v1 k0_t34 v228 v257 k0_hw21 k0_t48)
theorem k0_off1918_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1918 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t48
theorem k0_off1918_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1918 v1 k0_t34 v228 v257 k0_t48) S1x1x1x16x128.size (k0_off1918_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t48 (k0_off1918_inb v1 k0_t34 v228 v257 k0_hw21 k0_t48)
theorem k0_off1919_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1919 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t48
theorem k0_off1919_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1919 v1 k0_t34 v228 v257 k0_t48) S1x1x1x16x128.size (k0_off1919_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t48 (k0_off1919_inb v1 k0_t34 v228 v257 k0_hw21 k0_t48)
theorem k0_off1920_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1920 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t48
theorem k0_off1920_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1920 v1 k0_t34 v228 v257 k0_t48) S1x1x1x16x128.size (k0_off1920_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t48 (k0_off1920_inb v1 k0_t34 v228 v257 k0_hw21 k0_t48)
theorem k0_off1921_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1921 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t48
theorem k0_off1921_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1921 v1 k0_t34 v228 v257 k0_t48) S1x1x1x16x128.size (k0_off1921_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t48 (k0_off1921_inb v1 k0_t34 v228 v257 k0_hw21 k0_t48)
theorem k0_off1922_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1922 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t48
theorem k0_off1922_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1922 v1 k0_t34 v228 v257 k0_t48) S1x1x1x16x128.size (k0_off1922_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t48 (k0_off1922_inb v1 k0_t34 v228 v257 k0_hw21 k0_t48)
theorem k0_off1923_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1923 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t48
theorem k0_off1923_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1923 v1 k0_t34 v228 v257 k0_t48) S1x1x1x16x128.size (k0_off1923_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t48 (k0_off1923_inb v1 k0_t34 v228 v257 k0_hw21 k0_t48)
theorem k0_off1924_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1924 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t48
theorem k0_off1924_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1924 v1 k0_t34 v228 v257 k0_t48) S1x1x1x16x128.size (k0_off1924_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t48 (k0_off1924_inb v1 k0_t34 v228 v257 k0_hw21 k0_t48)
theorem k0_off1925_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1925 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t48
theorem k0_off1925_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1925 v1 k0_t34 v228 v257 k0_t48) S1x1x1x16x128.size (k0_off1925_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t48 (k0_off1925_inb v1 k0_t34 v228 v257 k0_hw21 k0_t48)
theorem k0_off1926_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1926 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t48
theorem k0_off1926_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1926 v1 k0_t34 v228 v257 k0_t48) S1x1x1x16x128.size (k0_off1926_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t48 (k0_off1926_inb v1 k0_t34 v228 v257 k0_hw21 k0_t48)
theorem k0_off1927_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1927 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t48
theorem k0_off1927_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1927 v1 k0_t34 v228 v257 k0_t48) S1x1x1x16x128.size (k0_off1927_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t48 (k0_off1927_inb v1 k0_t34 v228 v257 k0_hw21 k0_t48)
theorem k0_off1928_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1928 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t48
theorem k0_off1928_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1928 v1 k0_t34 v228 v257 k0_t48) S1x1x1x16x128.size (k0_off1928_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t48 (k0_off1928_inb v1 k0_t34 v228 v257 k0_hw21 k0_t48)
theorem k0_off1929_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1929 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t48
theorem k0_off1929_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1929 v1 k0_t34 v228 v257 k0_t48) S1x1x1x16x128.size (k0_off1929_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t48 (k0_off1929_inb v1 k0_t34 v228 v257 k0_hw21 k0_t48)
theorem k0_off1930_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1930 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t48
theorem k0_off1930_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1930 v1 k0_t34 v228 v257 k0_t48) S1x1x1x16x128.size (k0_off1930_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t48 (k0_off1930_inb v1 k0_t34 v228 v257 k0_hw21 k0_t48)
theorem k0_off1931_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1931 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t48
theorem k0_off1931_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1931 v1 k0_t34 v228 v257 k0_t48) S1x1x1x16x128.size (k0_off1931_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t48 (k0_off1931_inb v1 k0_t34 v228 v257 k0_hw21 k0_t48)
theorem k0_off1932_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1932 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t48
theorem k0_off1932_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1932 v1 k0_t34 v228 v257 k0_t48) S1x1x1x16x128.size (k0_off1932_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t48 (k0_off1932_inb v1 k0_t34 v228 v257 k0_hw21 k0_t48)
theorem k0_off1933_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1933 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t48
theorem k0_off1933_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1933 v1 k0_t34 v228 v257 k0_t48) S1x1x1x16x128.size (k0_off1933_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t48 (k0_off1933_inb v1 k0_t34 v228 v257 k0_hw21 k0_t48)
theorem k0_off1934_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1934 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t48
theorem k0_off1934_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1934 v1 k0_t34 v228 v257 k0_t48) S1x1x1x16x128.size (k0_off1934_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t48 (k0_off1934_inb v1 k0_t34 v228 v257 k0_hw21 k0_t48)
theorem k0_off1935_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1935 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t48
theorem k0_off1935_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1935 v1 k0_t34 v228 v257 k0_t48) S1x1x1x16x128.size (k0_off1935_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t48 (k0_off1935_inb v1 k0_t34 v228 v257 k0_hw21 k0_t48)
theorem k0_off1936_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1936 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t48
theorem k0_off1936_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1936 v1 k0_t34 v228 v257 k0_t48) S1x1x1x16x128.size (k0_off1936_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t48 (k0_off1936_inb v1 k0_t34 v228 v257 k0_hw21 k0_t48)
theorem k0_off1937_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1937 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t48
theorem k0_off1937_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1937 v1 k0_t34 v228 v257 k0_t48) S1x1x1x16x128.size (k0_off1937_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t48 (k0_off1937_inb v1 k0_t34 v228 v257 k0_hw21 k0_t48)
theorem k0_off1938_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1938 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t48
theorem k0_off1938_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1938 v1 k0_t34 v228 v257 k0_t48) S1x1x1x16x128.size (k0_off1938_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t48 (k0_off1938_inb v1 k0_t34 v228 v257 k0_hw21 k0_t48)
theorem k0_off1939_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1939 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t48
theorem k0_off1939_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1939 v1 k0_t34 v228 v257 k0_t48) S1x1x1x16x128.size (k0_off1939_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t48 (k0_off1939_inb v1 k0_t34 v228 v257 k0_hw21 k0_t48)
theorem k0_off1940_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1940 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t48
theorem k0_off1940_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1940 v1 k0_t34 v228 v257 k0_t48) S1x1x1x16x128.size (k0_off1940_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t48 (k0_off1940_inb v1 k0_t34 v228 v257 k0_hw21 k0_t48)
theorem k0_off1941_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1941 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t48
theorem k0_off1941_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1941 v1 k0_t34 v228 v257 k0_t48) S1x1x1x16x128.size (k0_off1941_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t48 (k0_off1941_inb v1 k0_t34 v228 v257 k0_hw21 k0_t48)
theorem k0_off1942_inb : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), ∀ a, (k0_off1942 v1 k0_t34 v228 v257 k0_t48) a + S1x1x1x16x128.size a ≤ S2x2x108x128x128.size a := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t48
theorem k0_off1942_packedbf16 : ∀ (v1 : BitVec 32) (k0_t34 : Fin (k0_t34_loop v1).trips) (v228 : BitVec 32) (v257 : BitVec 32) (k0_hw21 : k0_chk21 v1 k0_t34 v228 v257) (k0_t48 : Fin (k0_t48_loop v228 v257).trips), (Rect.unit (s := S2x2x108x128x128) (k0_off1942 v1 k0_t34 v228 v257 k0_t48) S1x1x1x16x128.size (k0_off1942_inb v1 k0_t34 v228 v257 k0_hw21 k0_t48)).PackedRows (EltTy.packing .bf16) := fun v1 k0_t34 v228 v257 k0_hw21 k0_t48 => k0_hw21.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2 k0_t48 (k0_off1942_inb v1 k0_t34 v228 v257 k0_hw21 k0_t48)

def k0_off1943 (v1 : BitVec 32) (k0_t34 : Fin (k0_t34_loop v1).trips) : Fin 1 → Nat :=
  let c0_i32_367 : BitVec 32 := 0#32
  let c1_i32_369 : BitVec 32 := 1#32
  let arg18 : BitVec 32 := Scf.iv c0_i32_367 c1_i32_369 k0_t34
  let c2_i32_452 : BitVec 32 := 2#32
  let v326 : BitVec 32 := Scalar.addi arg18 c2_i32_452
  let v327 : Index := Scalar.indexCast v326
  ![v327.toNat]
def k0_cond6 (v1 : BitVec 32) (k0_t34 : Fin (k0_t34_loop v1).trips) : BitVec 1 :=
  let c0_i32_367 : BitVec 32 := 0#32
  let c1_i32_369 : BitVec 32 := 1#32
  let arg18 : BitVec 32 := Scf.iv c0_i32_367 c1_i32_369 k0_t34
  let c2_i32_442 : BitVec 32 := 2#32
  let v314 : BitVec 32 := Scalar.addi arg18 c2_i32_442
  let v315 : BitVec 1 := Scalar.cmpi .slt v314 v1
  let v316 : BitVec 32 := Scalar.extui v315
  let c0_i32_443 : BitVec 32 := 0#32
  let v317 : BitVec 1 := Scalar.cmpi .ne v316 c0_i32_443
  v317

def k0_off1944 (v328 : BitVec 32) : Fin 1 → Nat :=
  let c0_i32_454 : BitVec 32 := 0#32
  let v330 : BitVec 1 := Scalar.cmpi .sgt v328 c0_i32_454
  let v331 : BitVec 32 := Scalar.extui v330
  let c0_i32_455 : BitVec 32 := 0#32
  let v332 : BitVec 1 := Scalar.cmpi .slt v328 c0_i32_455
  let v333 : BitVec 32 := Scalar.extui v332
  let v334 : BitVec 32 := Scalar.subi v331 v333
  let c16_i32_453 : BitVec 32 := 16#32
  let c0_i32_456 : BitVec 32 := 0#32
  let v335 : BitVec 1 := Scalar.cmpi .sgt c16_i32_453 c0_i32_456
  let v336 : BitVec 32 := Scalar.extui v335
  let c0_i32_457 : BitVec 32 := 0#32
  let v337 : BitVec 1 := Scalar.cmpi .slt c16_i32_453 c0_i32_457
  let v338 : BitVec 32 := Scalar.extui v337
  let v339 : BitVec 32 := Scalar.subi v336 v338
  let v340 : BitVec 1 := Scalar.cmpi .ne v334 v339
  let v341 : BitVec 32 := Scalar.remsi v328 c16_i32_453
  let c0_i32_458 : BitVec 32 := 0#32
  let v342 : BitVec 1 := Scalar.cmpi .ne v341 c0_i32_458
  let v343 : BitVec 1 := Scalar.andi v340 v342
  let v329 : BitVec 32 := Scalar.divsi v328 c16_i32_453
  let c1_i32_459 : BitVec 32 := 1#32
  let v344 : BitVec 32 := Scalar.subi v329 c1_i32_459
  let v345 : BitVec 32 := Scalar.select v343 v344 v329
  let v356 : Index := Scalar.indexCast v345
  ![v356.toNat]

def k0_chk30 (v1 : BitVec 32) (k0_t34 : Fin (k0_t34_loop v1).trips) (v328 : BitVec 32) : Prop :=
  (∀ (k0_h6 : k0_cond6 v1 k0_t34 = 1#1), ∀ a, (k0_off1944 v328) a + S1.size a ≤ S8.size a)
theorem k0_off1944_inb : ∀ (v1 : BitVec 32) (k0_t34 : Fin (k0_t34_loop v1).trips) (v328 : BitVec 32) (k0_hw30 : k0_chk30 v1 k0_t34 v328), ∀ (k0_h6 : k0_cond6 v1 k0_t34 = 1#1), ∀ a, (k0_off1944 v328) a + S1.size a ≤ S8.size a := fun v1 k0_t34 v328 k0_hw30 k0_h6 => k0_hw30 k0_h6

@[reducible] def k0_t49_loop (v328 : BitVec 32) (v357 : BitVec 32) : Scf.Loop 32 :=
  let c0_i32_474 : BitVec 32 := 0#32
  let c8_i32_472 : BitVec 32 := 8#32
  let c0_i32_471 : BitVec 32 := 0#32
  let c2048_i32_467 : BitVec 32 := 2048#32
  let c0_i32_466 : BitVec 32 := 0#32
  let v358 : BitVec 32 := Scalar.maxsi c0_i32_466 v357
  let v359 : BitVec 32 := Scalar.minsi c2048_i32_467 v358
  let c15_i32_468 : BitVec 32 := 15#32
  let v360 : BitVec 32 := Scalar.addi v359 c15_i32_468
  let c16_i32_469 : BitVec 32 := 16#32
  let v361 : BitVec 32 := Scalar.divsi v360 c16_i32_469
  let c16_i32_460 : BitVec 32 := 16#32
  let c0_i32_461 : BitVec 32 := 0#32
  let v346 : BitVec 1 := Scalar.cmpi .eq c16_i32_460 c0_i32_461
  let c1_i32_462 : BitVec 32 := 1#32
  let v347 : BitVec 32 := Scalar.select v346 c1_i32_462 c16_i32_460
  let v348 : BitVec 32 := Scalar.remsi v328 v347
  let c0_i32_464 : BitVec 32 := 0#32
  let v350 : BitVec 1 := Scalar.cmpi .slt v348 c0_i32_464
  let c0_i32_465 : BitVec 32 := 0#32
  let v351 : BitVec 1 := Scalar.cmpi .slt v347 c0_i32_465
  let v352 : BitVec 1 := Scalar.xori v350 v351
  let c0_i32_463 : BitVec 32 := 0#32
  let v349 : BitVec 1 := Scalar.cmpi .ne v348 c0_i32_463
  let v353 : BitVec 1 := Scalar.andi v352 v349
  let v354 : BitVec 32 := Scalar.addi v348 v347
  let v355 : BitVec 32 := Scalar.select v353 v354 v348
  let c8_i32_470 : BitVec 32 := 8#32
  let v362 : BitVec 32 := Scalar.muli v355 c8_i32_470
  let v363 : BitVec 32 := Scalar.subi v361 v362
  let v364 : BitVec 32 := Scalar.maxsi c0_i32_471 v363
  let v365 : BitVec 32 := Scalar.minsi c8_i32_472 v364
  let v366 : BitVec 32 := Scalar.subi v365 c0_i32_474
  let c1_i32_475 : BitVec 32 := 1#32
  let v368 : BitVec 32 := Scalar.divsi v366 c1_i32_475
  let v369 : BitVec 32 := Scalar.muli v368 c1_i32_475
  let v370 : BitVec 32 := Scalar.addi c0_i32_474 v369
  let c1_i32_476 : BitVec 32 := 1#32
  ⟨c0_i32_474, v370, c1_i32_476⟩

def k0_off1945 (v328 : BitVec 32) (v357 : BitVec 32) (k0_t49 : Fin (k0_t49_loop v328 v357).trips) : Fin 2 → Nat :=
  let c0_i32_454 : BitVec 32 := 0#32
  let v330 : BitVec 1 := Scalar.cmpi .sgt v328 c0_i32_454
  let v331 : BitVec 32 := Scalar.extui v330
  let c0_i32_455 : BitVec 32 := 0#32
  let v332 : BitVec 1 := Scalar.cmpi .slt v328 c0_i32_455
  let v333 : BitVec 32 := Scalar.extui v332
  let v334 : BitVec 32 := Scalar.subi v331 v333
  let c16_i32_453 : BitVec 32 := 16#32
  let c0_i32_456 : BitVec 32 := 0#32
  let v335 : BitVec 1 := Scalar.cmpi .sgt c16_i32_453 c0_i32_456
  let v336 : BitVec 32 := Scalar.extui v335
  let c0_i32_457 : BitVec 32 := 0#32
  let v337 : BitVec 1 := Scalar.cmpi .slt c16_i32_453 c0_i32_457
  let v338 : BitVec 32 := Scalar.extui v337
  let v339 : BitVec 32 := Scalar.subi v336 v338
  let v340 : BitVec 1 := Scalar.cmpi .ne v334 v339
  let v341 : BitVec 32 := Scalar.remsi v328 c16_i32_453
  let c0_i32_458 : BitVec 32 := 0#32
  let v342 : BitVec 1 := Scalar.cmpi .ne v341 c0_i32_458
  let v343 : BitVec 1 := Scalar.andi v340 v342
  let v329 : BitVec 32 := Scalar.divsi v328 c16_i32_453
  let c1_i32_459 : BitVec 32 := 1#32
  let v344 : BitVec 32 := Scalar.subi v329 c1_i32_459
  let v345 : BitVec 32 := Scalar.select v343 v344 v329
  let v373 : Index := Scalar.indexCast v345
  let c16_i32_460 : BitVec 32 := 16#32
  let c0_i32_461 : BitVec 32 := 0#32
  let v346 : BitVec 1 := Scalar.cmpi .eq c16_i32_460 c0_i32_461
  let c1_i32_462 : BitVec 32 := 1#32
  let v347 : BitVec 32 := Scalar.select v346 c1_i32_462 c16_i32_460
  let v348 : BitVec 32 := Scalar.remsi v328 v347
  let c0_i32_464 : BitVec 32 := 0#32
  let v350 : BitVec 1 := Scalar.cmpi .slt v348 c0_i32_464
  let c0_i32_465 : BitVec 32 := 0#32
  let v351 : BitVec 1 := Scalar.cmpi .slt v347 c0_i32_465
  let v352 : BitVec 1 := Scalar.xori v350 v351
  let c0_i32_463 : BitVec 32 := 0#32
  let v349 : BitVec 1 := Scalar.cmpi .ne v348 c0_i32_463
  let v353 : BitVec 1 := Scalar.andi v352 v349
  let v354 : BitVec 32 := Scalar.addi v348 v347
  let v355 : BitVec 32 := Scalar.select v353 v354 v348
  let c8_i32_478 : BitVec 32 := 8#32
  let v371 : BitVec 32 := Scalar.muli v355 c8_i32_478
  let c0_i32_474 : BitVec 32 := 0#32
  let c1_i32_476 : BitVec 32 := 1#32
  let arg19 : BitVec 32 := Scf.iv c0_i32_474 c1_i32_476 k0_t49
  let v372 : BitVec 32 := Scalar.addi v371 arg19
  let v374 : Index := Scalar.indexCast v372
  ![v373.toNat, v374.toNat]
def k0_off1946 (v1 : BitVec 32) (k0_t34 : Fin (k0_t34_loop v1).trips) : Fin 2 → Nat :=
  let c1_i32_480 : BitVec 32 := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  ![1, v226.toNat]
def k0_off1947 (v1 : BitVec 32) (k0_t34 : Fin (k0_t34_loop v1).trips) (v328 : BitVec 32) (v357 : BitVec 32) (k0_t49 : Fin (k0_t49_loop v328 v357).trips) : Fin 5 → Nat :=
  let c1_i32_479 : BitVec 32 := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let c0_i32_474 : BitVec 32 := 0#32
  let c1_i32_476 : BitVec 32 := 1#32
  let arg19 : BitVec 32 := Scf.iv c0_i32_474 c1_i32_476 k0_t49
  let c0_i32_481 : BitVec 32 := 0#32
  let c0_i32_482 : BitVec 32 := 0#32
  ![1, v226.toNat, arg19.toNat, 0, 0]
def k0_off1948 (v375 : BitVec 32) : Fin 3 → Nat :=
  let c0_i32_483 : BitVec 32 := 0#32
  let c0_i32_484 : BitVec 32 := 0#32
  ![v375.toNat, 0, 0]

def k0_chk32 (v1 : BitVec 32) (k0_t34 : Fin (k0_t34_loop v1).trips) (v375 : BitVec 32) : Prop :=
  (∀ (k0_h6 : k0_cond6 v1 k0_t34 = 1#1), ∀ a, (k0_off1948 v375) a + S1x1728x128.size a ≤ S1280x1728x128.size a) ∧
  (∀ (k0_h6 : k0_cond6 v1 k0_t34 = 1#1), ∀ (hinb : ∀ a, (k0_off1948 v375) a + S1x1728x128.size a ≤ S1280x1728x128.size a), (Rect.unit (s := S1280x1728x128) (k0_off1948 v375) S1x1728x128.size hinb).WholeWords (EltTy.packing .fp8e4m3))
theorem k0_off1948_inb : ∀ (v1 : BitVec 32) (k0_t34 : Fin (k0_t34_loop v1).trips) (v375 : BitVec 32) (k0_hw32 : k0_chk32 v1 k0_t34 v375), ∀ (k0_h6 : k0_cond6 v1 k0_t34 = 1#1), ∀ a, (k0_off1948 v375) a + S1x1728x128.size a ≤ S1280x1728x128.size a := fun v1 k0_t34 v375 k0_hw32 k0_h6 => k0_hw32.1 k0_h6
theorem k0_off1948_wordsfp8e4m3 : ∀ (v1 : BitVec 32) (k0_t34 : Fin (k0_t34_loop v1).trips) (v375 : BitVec 32) (k0_hw32 : k0_chk32 v1 k0_t34 v375), ∀ (k0_h6 : k0_cond6 v1 k0_t34 = 1#1), (Rect.unit (s := S1280x1728x128) (k0_off1948 v375) S1x1728x128.size (k0_off1948_inb v1 k0_t34 v375 k0_hw32 k0_h6)).WholeWords (EltTy.packing .fp8e4m3) := fun v1 k0_t34 v375 k0_hw32 k0_h6 => k0_hw32.2 k0_h6 (k0_off1948_inb v1 k0_t34 v375 k0_hw32 k0_h6)

@[reducible] def k0_t50_loop (v328 : BitVec 32) (v357 : BitVec 32) : Scf.Loop 32 :=
  let c0_i32_474 : BitVec 32 := 0#32
  let c8_i32_472 : BitVec 32 := 8#32
  let c0_i32_471 : BitVec 32 := 0#32
  let c2048_i32_467 : BitVec 32 := 2048#32
  let c0_i32_466 : BitVec 32 := 0#32
  let v358 : BitVec 32 := Scalar.maxsi c0_i32_466 v357
  let v359 : BitVec 32 := Scalar.minsi c2048_i32_467 v358
  let c15_i32_468 : BitVec 32 := 15#32
  let v360 : BitVec 32 := Scalar.addi v359 c15_i32_468
  let c16_i32_469 : BitVec 32 := 16#32
  let v361 : BitVec 32 := Scalar.divsi v360 c16_i32_469
  let c16_i32_460 : BitVec 32 := 16#32
  let c0_i32_461 : BitVec 32 := 0#32
  let v346 : BitVec 1 := Scalar.cmpi .eq c16_i32_460 c0_i32_461
  let c1_i32_462 : BitVec 32 := 1#32
  let v347 : BitVec 32 := Scalar.select v346 c1_i32_462 c16_i32_460
  let v348 : BitVec 32 := Scalar.remsi v328 v347
  let c0_i32_464 : BitVec 32 := 0#32
  let v350 : BitVec 1 := Scalar.cmpi .slt v348 c0_i32_464
  let c0_i32_465 : BitVec 32 := 0#32
  let v351 : BitVec 1 := Scalar.cmpi .slt v347 c0_i32_465
  let v352 : BitVec 1 := Scalar.xori v350 v351
  let c0_i32_463 : BitVec 32 := 0#32
  let v349 : BitVec 1 := Scalar.cmpi .ne v348 c0_i32_463
  let v353 : BitVec 1 := Scalar.andi v352 v349
  let v354 : BitVec 32 := Scalar.addi v348 v347
  let v355 : BitVec 32 := Scalar.select v353 v354 v348
  let c8_i32_470 : BitVec 32 := 8#32
  let v362 : BitVec 32 := Scalar.muli v355 c8_i32_470
  let v363 : BitVec 32 := Scalar.subi v361 v362
  let v364 : BitVec 32 := Scalar.maxsi c0_i32_471 v363
  let v365 : BitVec 32 := Scalar.minsi c8_i32_472 v364
  let v366 : BitVec 32 := Scalar.subi v365 c0_i32_474
  let c1_i32_475 : BitVec 32 := 1#32
  let v368 : BitVec 32 := Scalar.divsi v366 c1_i32_475
  let v369 : BitVec 32 := Scalar.muli v368 c1_i32_475
  let v370 : BitVec 32 := Scalar.addi c0_i32_474 v369
  let v367 : BitVec 32 := Scalar.addi c0_i32_474 v366
  let c1_i32_477 : BitVec 32 := 1#32
  ⟨v370, v367, c1_i32_477⟩
def k0_off1949 (v328 : BitVec 32) (v357 : BitVec 32) (k0_t50 : Fin (k0_t50_loop v328 v357).trips) : Fin 2 → Nat :=
  let c0_i32_454 : BitVec 32 := 0#32
  let v330 : BitVec 1 := Scalar.cmpi .sgt v328 c0_i32_454
  let v331 : BitVec 32 := Scalar.extui v330
  let c0_i32_455 : BitVec 32 := 0#32
  let v332 : BitVec 1 := Scalar.cmpi .slt v328 c0_i32_455
  let v333 : BitVec 32 := Scalar.extui v332
  let v334 : BitVec 32 := Scalar.subi v331 v333
  let c16_i32_453 : BitVec 32 := 16#32
  let c0_i32_456 : BitVec 32 := 0#32
  let v335 : BitVec 1 := Scalar.cmpi .sgt c16_i32_453 c0_i32_456
  let v336 : BitVec 32 := Scalar.extui v335
  let c0_i32_457 : BitVec 32 := 0#32
  let v337 : BitVec 1 := Scalar.cmpi .slt c16_i32_453 c0_i32_457
  let v338 : BitVec 32 := Scalar.extui v337
  let v339 : BitVec 32 := Scalar.subi v336 v338
  let v340 : BitVec 1 := Scalar.cmpi .ne v334 v339
  let v341 : BitVec 32 := Scalar.remsi v328 c16_i32_453
  let c0_i32_458 : BitVec 32 := 0#32
  let v342 : BitVec 1 := Scalar.cmpi .ne v341 c0_i32_458
  let v343 : BitVec 1 := Scalar.andi v340 v342
  let v329 : BitVec 32 := Scalar.divsi v328 c16_i32_453
  let c1_i32_459 : BitVec 32 := 1#32
  let v344 : BitVec 32 := Scalar.subi v329 c1_i32_459
  let v345 : BitVec 32 := Scalar.select v343 v344 v329
  let v373 : Index := Scalar.indexCast v345
  let c16_i32_460 : BitVec 32 := 16#32
  let c0_i32_461 : BitVec 32 := 0#32
  let v346 : BitVec 1 := Scalar.cmpi .eq c16_i32_460 c0_i32_461
  let c1_i32_462 : BitVec 32 := 1#32
  let v347 : BitVec 32 := Scalar.select v346 c1_i32_462 c16_i32_460
  let v348 : BitVec 32 := Scalar.remsi v328 v347
  let c0_i32_464 : BitVec 32 := 0#32
  let v350 : BitVec 1 := Scalar.cmpi .slt v348 c0_i32_464
  let c0_i32_465 : BitVec 32 := 0#32
  let v351 : BitVec 1 := Scalar.cmpi .slt v347 c0_i32_465
  let v352 : BitVec 1 := Scalar.xori v350 v351
  let c0_i32_463 : BitVec 32 := 0#32
  let v349 : BitVec 1 := Scalar.cmpi .ne v348 c0_i32_463
  let v353 : BitVec 1 := Scalar.andi v352 v349
  let v354 : BitVec 32 := Scalar.addi v348 v347
  let v355 : BitVec 32 := Scalar.select v353 v354 v348
  let c8_i32_478 : BitVec 32 := 8#32
  let v371 : BitVec 32 := Scalar.muli v355 c8_i32_478
  let c0_i32_474 : BitVec 32 := 0#32
  let c8_i32_472 : BitVec 32 := 8#32
  let c0_i32_471 : BitVec 32 := 0#32
  let c2048_i32_467 : BitVec 32 := 2048#32
  let c0_i32_466 : BitVec 32 := 0#32
  let v358 : BitVec 32 := Scalar.maxsi c0_i32_466 v357
  let v359 : BitVec 32 := Scalar.minsi c2048_i32_467 v358
  let c15_i32_468 : BitVec 32 := 15#32
  let v360 : BitVec 32 := Scalar.addi v359 c15_i32_468
  let c16_i32_469 : BitVec 32 := 16#32
  let v361 : BitVec 32 := Scalar.divsi v360 c16_i32_469
  let c8_i32_470 : BitVec 32 := 8#32
  let v362 : BitVec 32 := Scalar.muli v355 c8_i32_470
  let v363 : BitVec 32 := Scalar.subi v361 v362
  let v364 : BitVec 32 := Scalar.maxsi c0_i32_471 v363
  let v365 : BitVec 32 := Scalar.minsi c8_i32_472 v364
  let v366 : BitVec 32 := Scalar.subi v365 c0_i32_474
  let c1_i32_475 : BitVec 32 := 1#32
  let v368 : BitVec 32 := Scalar.divsi v366 c1_i32_475
  let v369 : BitVec 32 := Scalar.muli v368 c1_i32_475
  let v370 : BitVec 32 := Scalar.addi c0_i32_474 v369
  let c1_i32_477 : BitVec 32 := 1#32
  let arg19 : BitVec 32 := Scf.iv v370 c1_i32_477 k0_t50
  let v372 : BitVec 32 := Scalar.addi v371 arg19
  let v374 : Index := Scalar.indexCast v372
  ![v373.toNat, v374.toNat]
def k0_off1950 (v1 : BitVec 32) (k0_t34 : Fin (k0_t34_loop v1).trips) : Fin 2 → Nat :=
  let c1_i32_480 : BitVec 32 := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  ![1, v226.toNat]
def k0_off1951 (v1 : BitVec 32) (k0_t34 : Fin (k0_t34_loop v1).trips) (v328 : BitVec 32) (v357 : BitVec 32) (k0_t50 : Fin (k0_t50_loop v328 v357).trips) : Fin 5 → Nat :=
  let c1_i32_479 : BitVec 32 := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let c0_i32_474 : BitVec 32 := 0#32
  let c8_i32_472 : BitVec 32 := 8#32
  let c0_i32_471 : BitVec 32 := 0#32
  let c2048_i32_467 : BitVec 32 := 2048#32
  let c0_i32_466 : BitVec 32 := 0#32
  let v358 : BitVec 32 := Scalar.maxsi c0_i32_466 v357
  let v359 : BitVec 32 := Scalar.minsi c2048_i32_467 v358
  let c15_i32_468 : BitVec 32 := 15#32
  let v360 : BitVec 32 := Scalar.addi v359 c15_i32_468
  let c16_i32_469 : BitVec 32 := 16#32
  let v361 : BitVec 32 := Scalar.divsi v360 c16_i32_469
  let c16_i32_460 : BitVec 32 := 16#32
  let c0_i32_461 : BitVec 32 := 0#32
  let v346 : BitVec 1 := Scalar.cmpi .eq c16_i32_460 c0_i32_461
  let c1_i32_462 : BitVec 32 := 1#32
  let v347 : BitVec 32 := Scalar.select v346 c1_i32_462 c16_i32_460
  let v348 : BitVec 32 := Scalar.remsi v328 v347
  let c0_i32_464 : BitVec 32 := 0#32
  let v350 : BitVec 1 := Scalar.cmpi .slt v348 c0_i32_464
  let c0_i32_465 : BitVec 32 := 0#32
  let v351 : BitVec 1 := Scalar.cmpi .slt v347 c0_i32_465
  let v352 : BitVec 1 := Scalar.xori v350 v351
  let c0_i32_463 : BitVec 32 := 0#32
  let v349 : BitVec 1 := Scalar.cmpi .ne v348 c0_i32_463
  let v353 : BitVec 1 := Scalar.andi v352 v349
  let v354 : BitVec 32 := Scalar.addi v348 v347
  let v355 : BitVec 32 := Scalar.select v353 v354 v348
  let c8_i32_470 : BitVec 32 := 8#32
  let v362 : BitVec 32 := Scalar.muli v355 c8_i32_470
  let v363 : BitVec 32 := Scalar.subi v361 v362
  let v364 : BitVec 32 := Scalar.maxsi c0_i32_471 v363
  let v365 : BitVec 32 := Scalar.minsi c8_i32_472 v364
  let v366 : BitVec 32 := Scalar.subi v365 c0_i32_474
  let c1_i32_475 : BitVec 32 := 1#32
  let v368 : BitVec 32 := Scalar.divsi v366 c1_i32_475
  let v369 : BitVec 32 := Scalar.muli v368 c1_i32_475
  let v370 : BitVec 32 := Scalar.addi c0_i32_474 v369
  let c1_i32_477 : BitVec 32 := 1#32
  let arg19 : BitVec 32 := Scf.iv v370 c1_i32_477 k0_t50
  let c0_i32_481 : BitVec 32 := 0#32
  let c0_i32_482 : BitVec 32 := 0#32
  ![1, v226.toNat, arg19.toNat, 0, 0]
def k0_off1952 (v375 : BitVec 32) : Fin 3 → Nat :=
  let c0_i32_483 : BitVec 32 := 0#32
  let c0_i32_484 : BitVec 32 := 0#32
  ![v375.toNat, 0, 0]

def k0_chk33 (v1 : BitVec 32) (k0_t34 : Fin (k0_t34_loop v1).trips) (v375 : BitVec 32) : Prop :=
  (∀ (k0_h6 : k0_cond6 v1 k0_t34 = 1#1), ∀ a, (k0_off1952 v375) a + S1x1728x128.size a ≤ S1280x1728x128.size a) ∧
  (∀ (k0_h6 : k0_cond6 v1 k0_t34 = 1#1), ∀ (hinb : ∀ a, (k0_off1952 v375) a + S1x1728x128.size a ≤ S1280x1728x128.size a), (Rect.unit (s := S1280x1728x128) (k0_off1952 v375) S1x1728x128.size hinb).WholeWords (EltTy.packing .fp8e4m3))
theorem k0_off1952_inb : ∀ (v1 : BitVec 32) (k0_t34 : Fin (k0_t34_loop v1).trips) (v375 : BitVec 32) (k0_hw33 : k0_chk33 v1 k0_t34 v375), ∀ (k0_h6 : k0_cond6 v1 k0_t34 = 1#1), ∀ a, (k0_off1952 v375) a + S1x1728x128.size a ≤ S1280x1728x128.size a := fun v1 k0_t34 v375 k0_hw33 k0_h6 => k0_hw33.1 k0_h6
theorem k0_off1952_wordsfp8e4m3 : ∀ (v1 : BitVec 32) (k0_t34 : Fin (k0_t34_loop v1).trips) (v375 : BitVec 32) (k0_hw33 : k0_chk33 v1 k0_t34 v375), ∀ (k0_h6 : k0_cond6 v1 k0_t34 = 1#1), (Rect.unit (s := S1280x1728x128) (k0_off1952 v375) S1x1728x128.size (k0_off1952_inb v1 k0_t34 v375 k0_hw33 k0_h6)).WholeWords (EltTy.packing .fp8e4m3) := fun v1 k0_t34 v375 k0_hw33 k0_h6 => k0_hw33.2 k0_h6 (k0_off1952_inb v1 k0_t34 v375 k0_hw33 k0_h6)

def k0_chk31 (v1 : BitVec 32) (k0_t34 : Fin (k0_t34_loop v1).trips) (v328 : BitVec 32) (v357 : BitVec 32) : Prop :=
  (∀ (k0_h6 : k0_cond6 v1 k0_t34 = 1#1), (k0_t49_loop v328 v357).OK) ∧
  (∀ k0_t49 : Fin (k0_t49_loop v328 v357).trips, ∀ (k0_h6 : k0_cond6 v1 k0_t34 = 1#1), ∀ a, (k0_off1945 v328 v357 k0_t49) a + S1x1.size a ≤ S8x128.size a) ∧
  (∀ k0_t49 : Fin (k0_t49_loop v328 v357).trips, ∀ (k0_h6 : k0_cond6 v1 k0_t34 = 1#1), ∀ a, (k0_off1946 v1 k0_t34) a + S1x1.size a ≤ S2x2.size a) ∧
  (∀ k0_t49 : Fin (k0_t49_loop v328 v357).trips, ∀ (k0_h6 : k0_cond6 v1 k0_t34 = 1#1), ∀ a, (k0_off1947 v1 k0_t34 v328 v357 k0_t49) a + S1x1x1x1728x128.size a ≤ S2x2x8x1728x128.size a) ∧
  (∀ k0_t49 : Fin (k0_t49_loop v328 v357).trips, ∀ (k0_h6 : k0_cond6 v1 k0_t34 = 1#1), ∀ (hinb : ∀ a, (k0_off1947 v1 k0_t34 v328 v357 k0_t49) a + S1x1x1x1728x128.size a ≤ S2x2x8x1728x128.size a), (Rect.unit (s := S2x2x8x1728x128) (k0_off1947 v1 k0_t34 v328 v357 k0_t49) S1x1x1x1728x128.size hinb).WholeWords (EltTy.packing .fp8e4m3)) ∧
  (∀ (k0_h6 : k0_cond6 v1 k0_t34 = 1#1), (k0_t50_loop v328 v357).OK) ∧
  (∀ k0_t50 : Fin (k0_t50_loop v328 v357).trips, ∀ (k0_h6 : k0_cond6 v1 k0_t34 = 1#1), ∀ a, (k0_off1949 v328 v357 k0_t50) a + S1x1.size a ≤ S8x128.size a) ∧
  (∀ k0_t50 : Fin (k0_t50_loop v328 v357).trips, ∀ (k0_h6 : k0_cond6 v1 k0_t34 = 1#1), ∀ a, (k0_off1950 v1 k0_t34) a + S1x1.size a ≤ S2x2.size a) ∧
  (∀ k0_t50 : Fin (k0_t50_loop v328 v357).trips, ∀ (k0_h6 : k0_cond6 v1 k0_t34 = 1#1), ∀ a, (k0_off1951 v1 k0_t34 v328 v357 k0_t50) a + S1x1x1x1728x128.size a ≤ S2x2x8x1728x128.size a) ∧
  (∀ k0_t50 : Fin (k0_t50_loop v328 v357).trips, ∀ (k0_h6 : k0_cond6 v1 k0_t34 = 1#1), ∀ (hinb : ∀ a, (k0_off1951 v1 k0_t34 v328 v357 k0_t50) a + S1x1x1x1728x128.size a ≤ S2x2x8x1728x128.size a), (Rect.unit (s := S2x2x8x1728x128) (k0_off1951 v1 k0_t34 v328 v357 k0_t50) S1x1x1x1728x128.size hinb).WholeWords (EltTy.packing .fp8e4m3))
theorem k0_t49_ok : ∀ (v1 : BitVec 32) (k0_t34 : Fin (k0_t34_loop v1).trips) (v328 : BitVec 32) (v357 : BitVec 32) (k0_hw31 : k0_chk31 v1 k0_t34 v328 v357), ∀ (k0_h6 : k0_cond6 v1 k0_t34 = 1#1), (k0_t49_loop v328 v357).OK := fun v1 k0_t34 v328 v357 k0_hw31 k0_h6 => k0_hw31.1 k0_h6
theorem k0_off1945_inb : ∀ (v1 : BitVec 32) (k0_t34 : Fin (k0_t34_loop v1).trips) (v328 : BitVec 32) (v357 : BitVec 32) (k0_hw31 : k0_chk31 v1 k0_t34 v328 v357) (k0_t49 : Fin (k0_t49_loop v328 v357).trips), ∀ (k0_h6 : k0_cond6 v1 k0_t34 = 1#1), ∀ a, (k0_off1945 v328 v357 k0_t49) a + S1x1.size a ≤ S8x128.size a := fun v1 k0_t34 v328 v357 k0_hw31 k0_t49 k0_h6 => k0_hw31.2.1 k0_t49 k0_h6
theorem k0_off1946_inb : ∀ (v1 : BitVec 32) (k0_t34 : Fin (k0_t34_loop v1).trips) (v328 : BitVec 32) (v357 : BitVec 32) (k0_hw31 : k0_chk31 v1 k0_t34 v328 v357) (k0_t49 : Fin (k0_t49_loop v328 v357).trips), ∀ (k0_h6 : k0_cond6 v1 k0_t34 = 1#1), ∀ a, (k0_off1946 v1 k0_t34) a + S1x1.size a ≤ S2x2.size a := fun v1 k0_t34 v328 v357 k0_hw31 k0_t49 k0_h6 => k0_hw31.2.2.1 k0_t49 k0_h6
theorem k0_off1947_inb : ∀ (v1 : BitVec 32) (k0_t34 : Fin (k0_t34_loop v1).trips) (v328 : BitVec 32) (v357 : BitVec 32) (k0_hw31 : k0_chk31 v1 k0_t34 v328 v357) (k0_t49 : Fin (k0_t49_loop v328 v357).trips), ∀ (k0_h6 : k0_cond6 v1 k0_t34 = 1#1), ∀ a, (k0_off1947 v1 k0_t34 v328 v357 k0_t49) a + S1x1x1x1728x128.size a ≤ S2x2x8x1728x128.size a := fun v1 k0_t34 v328 v357 k0_hw31 k0_t49 k0_h6 => k0_hw31.2.2.2.1 k0_t49 k0_h6
theorem k0_off1947_wordsfp8e4m3 : ∀ (v1 : BitVec 32) (k0_t34 : Fin (k0_t34_loop v1).trips) (v328 : BitVec 32) (v357 : BitVec 32) (k0_hw31 : k0_chk31 v1 k0_t34 v328 v357) (k0_t49 : Fin (k0_t49_loop v328 v357).trips), ∀ (k0_h6 : k0_cond6 v1 k0_t34 = 1#1), (Rect.unit (s := S2x2x8x1728x128) (k0_off1947 v1 k0_t34 v328 v357 k0_t49) S1x1x1x1728x128.size (k0_off1947_inb v1 k0_t34 v328 v357 k0_hw31 k0_t49 k0_h6)).WholeWords (EltTy.packing .fp8e4m3) := fun v1 k0_t34 v328 v357 k0_hw31 k0_t49 k0_h6 => k0_hw31.2.2.2.2.1 k0_t49 k0_h6 (k0_off1947_inb v1 k0_t34 v328 v357 k0_hw31 k0_t49 k0_h6)
theorem k0_t50_ok : ∀ (v1 : BitVec 32) (k0_t34 : Fin (k0_t34_loop v1).trips) (v328 : BitVec 32) (v357 : BitVec 32) (k0_hw31 : k0_chk31 v1 k0_t34 v328 v357), ∀ (k0_h6 : k0_cond6 v1 k0_t34 = 1#1), (k0_t50_loop v328 v357).OK := fun v1 k0_t34 v328 v357 k0_hw31 k0_h6 => k0_hw31.2.2.2.2.2.1 k0_h6
theorem k0_off1949_inb : ∀ (v1 : BitVec 32) (k0_t34 : Fin (k0_t34_loop v1).trips) (v328 : BitVec 32) (v357 : BitVec 32) (k0_hw31 : k0_chk31 v1 k0_t34 v328 v357) (k0_t50 : Fin (k0_t50_loop v328 v357).trips), ∀ (k0_h6 : k0_cond6 v1 k0_t34 = 1#1), ∀ a, (k0_off1949 v328 v357 k0_t50) a + S1x1.size a ≤ S8x128.size a := fun v1 k0_t34 v328 v357 k0_hw31 k0_t50 k0_h6 => k0_hw31.2.2.2.2.2.2.1 k0_t50 k0_h6
theorem k0_off1950_inb : ∀ (v1 : BitVec 32) (k0_t34 : Fin (k0_t34_loop v1).trips) (v328 : BitVec 32) (v357 : BitVec 32) (k0_hw31 : k0_chk31 v1 k0_t34 v328 v357) (k0_t50 : Fin (k0_t50_loop v328 v357).trips), ∀ (k0_h6 : k0_cond6 v1 k0_t34 = 1#1), ∀ a, (k0_off1950 v1 k0_t34) a + S1x1.size a ≤ S2x2.size a := fun v1 k0_t34 v328 v357 k0_hw31 k0_t50 k0_h6 => k0_hw31.2.2.2.2.2.2.2.1 k0_t50 k0_h6
theorem k0_off1951_inb : ∀ (v1 : BitVec 32) (k0_t34 : Fin (k0_t34_loop v1).trips) (v328 : BitVec 32) (v357 : BitVec 32) (k0_hw31 : k0_chk31 v1 k0_t34 v328 v357) (k0_t50 : Fin (k0_t50_loop v328 v357).trips), ∀ (k0_h6 : k0_cond6 v1 k0_t34 = 1#1), ∀ a, (k0_off1951 v1 k0_t34 v328 v357 k0_t50) a + S1x1x1x1728x128.size a ≤ S2x2x8x1728x128.size a := fun v1 k0_t34 v328 v357 k0_hw31 k0_t50 k0_h6 => k0_hw31.2.2.2.2.2.2.2.2.1 k0_t50 k0_h6
theorem k0_off1951_wordsfp8e4m3 : ∀ (v1 : BitVec 32) (k0_t34 : Fin (k0_t34_loop v1).trips) (v328 : BitVec 32) (v357 : BitVec 32) (k0_hw31 : k0_chk31 v1 k0_t34 v328 v357) (k0_t50 : Fin (k0_t50_loop v328 v357).trips), ∀ (k0_h6 : k0_cond6 v1 k0_t34 = 1#1), (Rect.unit (s := S2x2x8x1728x128) (k0_off1951 v1 k0_t34 v328 v357 k0_t50) S1x1x1x1728x128.size (k0_off1951_inb v1 k0_t34 v328 v357 k0_hw31 k0_t50 k0_h6)).WholeWords (EltTy.packing .fp8e4m3) := fun v1 k0_t34 v328 v357 k0_hw31 k0_t50 k0_h6 => k0_hw31.2.2.2.2.2.2.2.2.2 k0_t50 k0_h6 (k0_off1951_inb v1 k0_t34 v328 v357 k0_hw31 k0_t50 k0_h6)

def k0_mult16 (v228 : BitVec 32) : BitVec 32 :=
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c128_i32_444 : BitVec 32 := 128#32
  let v318 : BitVec 32 := Scalar.muli v255 c128_i32_444
  v318

def k0_chk20 (v228 : BitVec 32) : Prop :=
  (∀ a, (k0_off397 v228) a + S1.size a ≤ S8.size a) ∧
  (128 ∣ (k0_mult10 v228).toNat) ∧
  (∀ a, (k0_off1175 v228) a + S1x108x128x128.size a ≤ S8x108x2048x128.size a) ∧
  (∀ (hinb : ∀ a, (k0_off1175 v228) a + S1x108x128x128.size a ≤ S8x108x2048x128.size a), (Rect.unit (s := S8x108x2048x128) (k0_off1175 v228) S1x108x128x128.size hinb).WholeWords (EltTy.packing .bf16)) ∧
  (128 ∣ (k0_mult16 v228).toNat)
theorem k0_off397_inb : ∀ (v228 : BitVec 32) (k0_hw20 : k0_chk20 v228), ∀ a, (k0_off397 v228) a + S1.size a ≤ S8.size a := fun v228 k0_hw20 => k0_hw20.1
theorem k0_mult10_dvd : ∀ (v228 : BitVec 32) (k0_hw20 : k0_chk20 v228), 128 ∣ (k0_mult10 v228).toNat := fun v228 k0_hw20 => k0_hw20.2.1
theorem k0_off1175_inb : ∀ (v228 : BitVec 32) (k0_hw20 : k0_chk20 v228), ∀ a, (k0_off1175 v228) a + S1x108x128x128.size a ≤ S8x108x2048x128.size a := fun v228 k0_hw20 => k0_hw20.2.2.1
theorem k0_off1175_wordsbf16 : ∀ (v228 : BitVec 32) (k0_hw20 : k0_chk20 v228), (Rect.unit (s := S8x108x2048x128) (k0_off1175 v228) S1x108x128x128.size (k0_off1175_inb v228 k0_hw20)).WholeWords (EltTy.packing .bf16) := fun v228 k0_hw20 => k0_hw20.2.2.2.1 (k0_off1175_inb v228 k0_hw20)
theorem k0_mult16_dvd : ∀ (v228 : BitVec 32) (k0_hw20 : k0_chk20 v228), 128 ∣ (k0_mult16 v228).toNat := fun v228 k0_hw20 => k0_hw20.2.2.2.2

def k0_off1953 (v1 : BitVec 32) (k0_t34 : Fin (k0_t34_loop v1).trips) : Fin 2 → Nat :=
  let c1_i32_446 : BitVec 32 := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  ![1, v226.toNat]
def k0_off1954 (v1 : BitVec 32) (k0_t34 : Fin (k0_t34_loop v1).trips) : Fin 5 → Nat :=
  let c1_i32_445 : BitVec 32 := 1#32
  let c0_i32_367 : BitVec 32 := 0#32
  let c1_i32_369 : BitVec 32 := 1#32
  let arg18 : BitVec 32 := Scf.iv c0_i32_367 c1_i32_369 k0_t34
  let c2_i32_380 : BitVec 32 := 2#32
  let v226 : BitVec 32 := Scalar.remsi arg18 c2_i32_380
  let c0_i32_449 : BitVec 32 := 0#32
  let c0_i32_450 : BitVec 32 := 0#32
  let c0_i32_451 : BitVec 32 := 0#32
  ![1, v226.toNat, 0, 0, 0]
@[reducible] def k0_t51_loop (v1 : BitVec 32) : Scf.Loop 32 :=
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let v209 : BitVec 32 := Scalar.addi c0_i32_367 v208
  let c1_i32_370 : BitVec 32 := 1#32
  ⟨v212, v209, c1_i32_370⟩
def k0_off1955 (v1 : BitVec 32) (k0_t51 : Fin (k0_t51_loop v1).trips) : Fin 1 → Nat :=
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let v227 : Index := Scalar.indexCast arg18
  ![v227.toNat]
def k0_off1956 (v228 : BitVec 32) : Fin 1 → Nat :=
  let c0_i32_381 : BitVec 32 := 0#32
  let v230 : BitVec 1 := Scalar.cmpi .sgt v228 c0_i32_381
  let v231 : BitVec 32 := Scalar.extui v230
  let c0_i32_382 : BitVec 32 := 0#32
  let v232 : BitVec 1 := Scalar.cmpi .slt v228 c0_i32_382
  let v233 : BitVec 32 := Scalar.extui v232
  let v234 : BitVec 32 := Scalar.subi v231 v233
  let c16_i32 : BitVec 32 := 16#32
  let c0_i32_383 : BitVec 32 := 0#32
  let v235 : BitVec 1 := Scalar.cmpi .sgt c16_i32 c0_i32_383
  let v236 : BitVec 32 := Scalar.extui v235
  let c0_i32_384 : BitVec 32 := 0#32
  let v237 : BitVec 1 := Scalar.cmpi .slt c16_i32 c0_i32_384
  let v238 : BitVec 32 := Scalar.extui v237
  let v239 : BitVec 32 := Scalar.subi v236 v238
  let v240 : BitVec 1 := Scalar.cmpi .ne v234 v239
  let v241 : BitVec 32 := Scalar.remsi v228 c16_i32
  let c0_i32_385 : BitVec 32 := 0#32
  let v242 : BitVec 1 := Scalar.cmpi .ne v241 c0_i32_385
  let v243 : BitVec 1 := Scalar.andi v240 v242
  let v229 : BitVec 32 := Scalar.divsi v228 c16_i32
  let c1_i32_386 : BitVec 32 := 1#32
  let v244 : BitVec 32 := Scalar.subi v229 c1_i32_386
  let v245 : BitVec 32 := Scalar.select v243 v244 v229
  let v256 : Index := Scalar.indexCast v245
  ![v256.toNat]

@[reducible] def k0_t52_loop (v228 : BitVec 32) (v257 : BitVec 32) : Scf.Loop 32 :=
  let c0_i32_399 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v266 : BitVec 32 := Scalar.subi v265 c0_i32_399
  let c1_i32_400 : BitVec 32 := 1#32
  let v268 : BitVec 32 := Scalar.divsi v266 c1_i32_400
  let v269 : BitVec 32 := Scalar.muli v268 c1_i32_400
  let v270 : BitVec 32 := Scalar.addi c0_i32_399 v269
  let c1_i32_401 : BitVec 32 := 1#32
  ⟨c0_i32_399, v270, c1_i32_401⟩

def k0_off1957 (v1 : BitVec 32) (k0_t51 : Fin (k0_t51_loop v1).trips) : Fin 2 → Nat :=
  let c0_i32_454 : BitVec 32 := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  ![0, v226.toNat]
def k0_off1958 (v1 : BitVec 32) (k0_t51 : Fin (k0_t51_loop v1).trips) (v228 : BitVec 32) (v257 : BitVec 32) (k0_t52 : Fin (k0_t52_loop v228 v257).trips) : Fin 5 → Nat :=
  let c0_i32_453 : BitVec 32 := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let c0_i32_399 : BitVec 32 := 0#32
  let c1_i32_401 : BitVec 32 := 1#32
  let arg19 : BitVec 32 := Scf.iv c0_i32_399 c1_i32_401 k0_t52
  let c0_i32_455 : BitVec 32 := 0#32
  let c0_i32_456 : BitVec 32 := 0#32
  ![0, v226.toNat, arg19.toNat, 0, 0]
@[reducible] def k0_t53_loop (v228 : BitVec 32) (v257 : BitVec 32) : Scf.Loop 32 :=
  let c0_i32_399 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v266 : BitVec 32 := Scalar.subi v265 c0_i32_399
  let c1_i32_400 : BitVec 32 := 1#32
  let v268 : BitVec 32 := Scalar.divsi v266 c1_i32_400
  let v269 : BitVec 32 := Scalar.muli v268 c1_i32_400
  let v270 : BitVec 32 := Scalar.addi c0_i32_399 v269
  let v267 : BitVec 32 := Scalar.addi c0_i32_399 v266
  let c1_i32_402 : BitVec 32 := 1#32
  ⟨v270, v267, c1_i32_402⟩
def k0_off1959 (v1 : BitVec 32) (k0_t51 : Fin (k0_t51_loop v1).trips) : Fin 2 → Nat :=
  let c0_i32_454 : BitVec 32 := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  ![0, v226.toNat]
def k0_off1960 (v1 : BitVec 32) (k0_t51 : Fin (k0_t51_loop v1).trips) (v228 : BitVec 32) (v257 : BitVec 32) (k0_t53 : Fin (k0_t53_loop v228 v257).trips) : Fin 5 → Nat :=
  let c0_i32_453 : BitVec 32 := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let c0_i32_399 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v266 : BitVec 32 := Scalar.subi v265 c0_i32_399
  let c1_i32_400 : BitVec 32 := 1#32
  let v268 : BitVec 32 := Scalar.divsi v266 c1_i32_400
  let v269 : BitVec 32 := Scalar.muli v268 c1_i32_400
  let v270 : BitVec 32 := Scalar.addi c0_i32_399 v269
  let c1_i32_402 : BitVec 32 := 1#32
  let arg19 : BitVec 32 := Scf.iv v270 c1_i32_402 k0_t53
  let c0_i32_455 : BitVec 32 := 0#32
  let c0_i32_456 : BitVec 32 := 0#32
  ![0, v226.toNat, arg19.toNat, 0, 0]
def k0_mult17 : BitVec 32 :=
  let c0_i32_452 : BitVec 32 := 0#32
  c0_i32_452
def k0_off1961 (v1 : BitVec 32) (k0_t51 : Fin (k0_t51_loop v1).trips) : Fin 2 → Nat :=
  let c0_i32_455 : BitVec 32 := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  ![0, v226.toNat]
def k0_cond7 (v1 : BitVec 32) (k0_t51 : Fin (k0_t51_loop v1).trips) : BitVec 1 :=
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_403 : BitVec 32 := 2#32
  let v271 : BitVec 1 := Scalar.cmpi .sge arg18 c2_i32_403
  let v272 : BitVec 32 := Scalar.extui v271
  let c0_i32_404 : BitVec 32 := 0#32
  let v273 : BitVec 1 := Scalar.cmpi .ne v272 c0_i32_404
  v273

def k0_off1962 (v1 : BitVec 32) (k0_t51 : Fin (k0_t51_loop v1).trips) : Fin 5 → Nat :=
  let c0_i32_453 : BitVec 32 := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let c0_i32_458 : BitVec 32 := 0#32
  let c0_i32_459 : BitVec 32 := 0#32
  let c0_i32_460 : BitVec 32 := 0#32
  ![0, v226.toNat, 0, 0, 0]
@[reducible] def k0_t54_loop (v228 : BitVec 32) (v257 : BitVec 32) : Scf.Loop 32 :=
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_408 : BitVec 32 := 1#32
  ⟨c0_i32_406, v278, c1_i32_408⟩
def k0_off1963 (v228 : BitVec 32) (v257 : BitVec 32) (k0_t54 : Fin (k0_t54_loop v228 v257).trips) : Fin 2 → Nat :=
  let c0_i32_381 : BitVec 32 := 0#32
  let v230 : BitVec 1 := Scalar.cmpi .sgt v228 c0_i32_381
  let v231 : BitVec 32 := Scalar.extui v230
  let c0_i32_382 : BitVec 32 := 0#32
  let v232 : BitVec 1 := Scalar.cmpi .slt v228 c0_i32_382
  let v233 : BitVec 32 := Scalar.extui v232
  let v234 : BitVec 32 := Scalar.subi v231 v233
  let c16_i32 : BitVec 32 := 16#32
  let c0_i32_383 : BitVec 32 := 0#32
  let v235 : BitVec 1 := Scalar.cmpi .sgt c16_i32 c0_i32_383
  let v236 : BitVec 32 := Scalar.extui v235
  let c0_i32_384 : BitVec 32 := 0#32
  let v237 : BitVec 1 := Scalar.cmpi .slt c16_i32 c0_i32_384
  let v238 : BitVec 32 := Scalar.extui v237
  let v239 : BitVec 32 := Scalar.subi v236 v238
  let v240 : BitVec 1 := Scalar.cmpi .ne v234 v239
  let v241 : BitVec 32 := Scalar.remsi v228 c16_i32
  let c0_i32_385 : BitVec 32 := 0#32
  let v242 : BitVec 1 := Scalar.cmpi .ne v241 c0_i32_385
  let v243 : BitVec 1 := Scalar.andi v240 v242
  let v229 : BitVec 32 := Scalar.divsi v228 c16_i32
  let c1_i32_386 : BitVec 32 := 1#32
  let v244 : BitVec 32 := Scalar.subi v229 c1_i32_386
  let v245 : BitVec 32 := Scalar.select v243 v244 v229
  let v328 : Index := Scalar.indexCast v245
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_452 : BitVec 32 := 8#32
  let v326 : BitVec 32 := Scalar.muli v255 c8_i32_452
  let c0_i32_406 : BitVec 32 := 0#32
  let c1_i32_408 : BitVec 32 := 1#32
  let arg19 : BitVec 32 := Scf.iv c0_i32_406 c1_i32_408 k0_t54
  let v327 : BitVec 32 := Scalar.addi v326 arg19
  let v329 : Index := Scalar.indexCast v327
  ![v328.toNat, v329.toNat]
def k0_off1964 (v228 : BitVec 32) : Fin 1 → Nat :=
  let c0_i32_381 : BitVec 32 := 0#32
  let v230 : BitVec 1 := Scalar.cmpi .sgt v228 c0_i32_381
  let v231 : BitVec 32 := Scalar.extui v230
  let c0_i32_382 : BitVec 32 := 0#32
  let v232 : BitVec 1 := Scalar.cmpi .slt v228 c0_i32_382
  let v233 : BitVec 32 := Scalar.extui v232
  let v234 : BitVec 32 := Scalar.subi v231 v233
  let c16_i32 : BitVec 32 := 16#32
  let c0_i32_383 : BitVec 32 := 0#32
  let v235 : BitVec 1 := Scalar.cmpi .sgt c16_i32 c0_i32_383
  let v236 : BitVec 32 := Scalar.extui v235
  let c0_i32_384 : BitVec 32 := 0#32
  let v237 : BitVec 1 := Scalar.cmpi .slt c16_i32 c0_i32_384
  let v238 : BitVec 32 := Scalar.extui v237
  let v239 : BitVec 32 := Scalar.subi v236 v238
  let v240 : BitVec 1 := Scalar.cmpi .ne v234 v239
  let v241 : BitVec 32 := Scalar.remsi v228 c16_i32
  let c0_i32_385 : BitVec 32 := 0#32
  let v242 : BitVec 1 := Scalar.cmpi .ne v241 c0_i32_385
  let v243 : BitVec 1 := Scalar.andi v240 v242
  let v229 : BitVec 32 := Scalar.divsi v228 c16_i32
  let c1_i32_386 : BitVec 32 := 1#32
  let v244 : BitVec 32 := Scalar.subi v229 c1_i32_386
  let v245 : BitVec 32 := Scalar.select v243 v244 v229
  let v359 : Index := Scalar.indexCast v245
  ![v359.toNat]
def k0_mult18 (v228 : BitVec 32) (v257 : BitVec 32) (k0_t54 : Fin (k0_t54_loop v228 v257).trips) : BitVec 32 :=
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  v381
def k0_off1965 (v1 : BitVec 32) (k0_t51 : Fin (k0_t51_loop v1).trips) (v228 : BitVec 32) (v257 : BitVec 32) (k0_t54 : Fin (k0_t54_loop v228 v257).trips) : Fin 5 → Nat :=
  let c0 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v383 : Index := Scalar.indexCast v226
  let c0_i32_406 : BitVec 32 := 0#32
  let c1_i32_408 : BitVec 32 := 1#32
  let arg19 : BitVec 32 := Scf.iv c0_i32_406 c1_i32_408 k0_t54
  let v384 : Index := Scalar.indexCast arg19
  let c0_474 : Index := 0#32
  let c0_475 : Index := 0#32
  ![0, v383.toNat, v384.toNat, 0, 0]
def k0_off1966 (v330 : BitVec 32) : Fin 5 → Nat :=
  let c0_476 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v388 : Index := Scalar.indexCast v347
  let c0_477 : Index := 0#32
  let c0_478 : Index := 0#32
  let c0_479 : Index := 0#32
  ![0, v388.toNat, 0, 0, 0]

def k0_off1967 (v1 : BitVec 32) (k0_t51 : Fin (k0_t51_loop v1).trips) (v228 : BitVec 32) (v257 : BitVec 32) (k0_t54 : Fin (k0_t54_loop v228 v257).trips) : Fin 5 → Nat :=
  let c0_482 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v405 : Index := Scalar.indexCast v226
  let c0_483 : Index := 0#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v406 : Index := Scalar.indexCast v382
  let c0_484 : Index := 0#32
  ![0, v405.toNat, 0, v406.toNat, 0]
def k0_off1968 (v330 : BitVec 32) : Fin 5 → Nat :=
  let c0_485 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v410 : Index := Scalar.indexCast v347
  let c1 : Index := 1#32
  let c0_486 : Index := 0#32
  let c0_487 : Index := 0#32
  ![0, v410.toNat, 1, 0, 0]
def k0_off1969 (v1 : BitVec 32) (k0_t51 : Fin (k0_t51_loop v1).trips) (v228 : BitVec 32) (v257 : BitVec 32) (k0_t54 : Fin (k0_t54_loop v228 v257).trips) : Fin 5 → Nat :=
  let c0_490 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v427 : Index := Scalar.indexCast v226
  let c1_491 : Index := 1#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v428 : Index := Scalar.indexCast v382
  let c0_492 : Index := 0#32
  ![0, v427.toNat, 1, v428.toNat, 0]
def k0_off1970 (v1 : BitVec 32) (k0_t51 : Fin (k0_t51_loop v1).trips) (v228 : BitVec 32) (v257 : BitVec 32) (k0_t54 : Fin (k0_t54_loop v228 v257).trips) : Fin 5 → Nat :=
  let c0_493 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v432 : Index := Scalar.indexCast v226
  let c0_i32_406 : BitVec 32 := 0#32
  let c1_i32_408 : BitVec 32 := 1#32
  let arg19 : BitVec 32 := Scf.iv c0_i32_406 c1_i32_408 k0_t54
  let v433 : Index := Scalar.indexCast arg19
  let c32 : Index := 32#32
  let c0_494 : Index := 0#32
  ![0, v432.toNat, v433.toNat, 32, 0]
def k0_off1971 (v330 : BitVec 32) : Fin 5 → Nat :=
  let c0_495 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v437 : Index := Scalar.indexCast v347
  let c2 : Index := 2#32
  let c0_496 : Index := 0#32
  let c0_497 : Index := 0#32
  ![0, v437.toNat, 2, 0, 0]
def k0_off1972 (v1 : BitVec 32) (k0_t51 : Fin (k0_t51_loop v1).trips) (v228 : BitVec 32) (v257 : BitVec 32) (k0_t54 : Fin (k0_t54_loop v228 v257).trips) : Fin 5 → Nat :=
  let c0_500 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v454 : Index := Scalar.indexCast v226
  let c2_501 : Index := 2#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v455 : Index := Scalar.indexCast v382
  let c0_502 : Index := 0#32
  ![0, v454.toNat, 2, v455.toNat, 0]
def k0_off1973 (v330 : BitVec 32) : Fin 5 → Nat :=
  let c0_503 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v459 : Index := Scalar.indexCast v347
  let c3 : Index := 3#32
  let c0_504 : Index := 0#32
  let c0_505 : Index := 0#32
  ![0, v459.toNat, 3, 0, 0]
def k0_off1974 (v1 : BitVec 32) (k0_t51 : Fin (k0_t51_loop v1).trips) (v228 : BitVec 32) (v257 : BitVec 32) (k0_t54 : Fin (k0_t54_loop v228 v257).trips) : Fin 5 → Nat :=
  let c0_508 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v476 : Index := Scalar.indexCast v226
  let c3_509 : Index := 3#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v477 : Index := Scalar.indexCast v382
  let c0_510 : Index := 0#32
  ![0, v476.toNat, 3, v477.toNat, 0]
def k0_off1975 (v1 : BitVec 32) (k0_t51 : Fin (k0_t51_loop v1).trips) (v228 : BitVec 32) (v257 : BitVec 32) (k0_t54 : Fin (k0_t54_loop v228 v257).trips) : Fin 5 → Nat :=
  let c0_511 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v481 : Index := Scalar.indexCast v226
  let c0_i32_406 : BitVec 32 := 0#32
  let c1_i32_408 : BitVec 32 := 1#32
  let arg19 : BitVec 32 := Scf.iv c0_i32_406 c1_i32_408 k0_t54
  let v482 : Index := Scalar.indexCast arg19
  let c64 : Index := 64#32
  let c0_512 : Index := 0#32
  ![0, v481.toNat, v482.toNat, 64, 0]
def k0_off1976 (v330 : BitVec 32) : Fin 5 → Nat :=
  let c0_513 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v486 : Index := Scalar.indexCast v347
  let c4 : Index := 4#32
  let c0_514 : Index := 0#32
  let c0_515 : Index := 0#32
  ![0, v486.toNat, 4, 0, 0]
def k0_off1977 (v1 : BitVec 32) (k0_t51 : Fin (k0_t51_loop v1).trips) (v228 : BitVec 32) (v257 : BitVec 32) (k0_t54 : Fin (k0_t54_loop v228 v257).trips) : Fin 5 → Nat :=
  let c0_518 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v503 : Index := Scalar.indexCast v226
  let c4_519 : Index := 4#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v504 : Index := Scalar.indexCast v382
  let c0_520 : Index := 0#32
  ![0, v503.toNat, 4, v504.toNat, 0]
def k0_off1978 (v330 : BitVec 32) : Fin 5 → Nat :=
  let c0_521 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v508 : Index := Scalar.indexCast v347
  let c5 : Index := 5#32
  let c0_522 : Index := 0#32
  let c0_523 : Index := 0#32
  ![0, v508.toNat, 5, 0, 0]
def k0_off1979 (v1 : BitVec 32) (k0_t51 : Fin (k0_t51_loop v1).trips) (v228 : BitVec 32) (v257 : BitVec 32) (k0_t54 : Fin (k0_t54_loop v228 v257).trips) : Fin 5 → Nat :=
  let c0_526 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v525 : Index := Scalar.indexCast v226
  let c5_527 : Index := 5#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v526 : Index := Scalar.indexCast v382
  let c0_528 : Index := 0#32
  ![0, v525.toNat, 5, v526.toNat, 0]
def k0_off1980 (v1 : BitVec 32) (k0_t51 : Fin (k0_t51_loop v1).trips) (v228 : BitVec 32) (v257 : BitVec 32) (k0_t54 : Fin (k0_t54_loop v228 v257).trips) : Fin 5 → Nat :=
  let c0_529 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v530 : Index := Scalar.indexCast v226
  let c0_i32_406 : BitVec 32 := 0#32
  let c1_i32_408 : BitVec 32 := 1#32
  let arg19 : BitVec 32 := Scf.iv c0_i32_406 c1_i32_408 k0_t54
  let v531 : Index := Scalar.indexCast arg19
  let c96 : Index := 96#32
  let c0_530 : Index := 0#32
  ![0, v530.toNat, v531.toNat, 96, 0]
def k0_off1981 (v330 : BitVec 32) : Fin 5 → Nat :=
  let c0_531 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v535 : Index := Scalar.indexCast v347
  let c6 : Index := 6#32
  let c0_532 : Index := 0#32
  let c0_533 : Index := 0#32
  ![0, v535.toNat, 6, 0, 0]
def k0_off1982 (v1 : BitVec 32) (k0_t51 : Fin (k0_t51_loop v1).trips) (v228 : BitVec 32) (v257 : BitVec 32) (k0_t54 : Fin (k0_t54_loop v228 v257).trips) : Fin 5 → Nat :=
  let c0_536 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v552 : Index := Scalar.indexCast v226
  let c6_537 : Index := 6#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v553 : Index := Scalar.indexCast v382
  let c0_538 : Index := 0#32
  ![0, v552.toNat, 6, v553.toNat, 0]
def k0_off1983 (v330 : BitVec 32) : Fin 5 → Nat :=
  let c0_539 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v557 : Index := Scalar.indexCast v347
  let c7 : Index := 7#32
  let c0_540 : Index := 0#32
  let c0_541 : Index := 0#32
  ![0, v557.toNat, 7, 0, 0]
def k0_off1984 (v1 : BitVec 32) (k0_t51 : Fin (k0_t51_loop v1).trips) (v228 : BitVec 32) (v257 : BitVec 32) (k0_t54 : Fin (k0_t54_loop v228 v257).trips) : Fin 5 → Nat :=
  let c0_544 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v574 : Index := Scalar.indexCast v226
  let c7_545 : Index := 7#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v575 : Index := Scalar.indexCast v382
  let c0_546 : Index := 0#32
  ![0, v574.toNat, 7, v575.toNat, 0]
def k0_off1985 (v1 : BitVec 32) (k0_t51 : Fin (k0_t51_loop v1).trips) (v228 : BitVec 32) (v257 : BitVec 32) (k0_t54 : Fin (k0_t54_loop v228 v257).trips) : Fin 5 → Nat :=
  let c0_547 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v579 : Index := Scalar.indexCast v226
  let c0_i32_406 : BitVec 32 := 0#32
  let c1_i32_408 : BitVec 32 := 1#32
  let arg19 : BitVec 32 := Scf.iv c0_i32_406 c1_i32_408 k0_t54
  let v580 : Index := Scalar.indexCast arg19
  let c128 : Index := 128#32
  let c0_548 : Index := 0#32
  ![0, v579.toNat, v580.toNat, 128, 0]
def k0_off1986 (v330 : BitVec 32) : Fin 5 → Nat :=
  let c0_549 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v584 : Index := Scalar.indexCast v347
  let c8 : Index := 8#32
  let c0_550 : Index := 0#32
  let c0_551 : Index := 0#32
  ![0, v584.toNat, 8, 0, 0]
def k0_off1987 (v1 : BitVec 32) (k0_t51 : Fin (k0_t51_loop v1).trips) (v228 : BitVec 32) (v257 : BitVec 32) (k0_t54 : Fin (k0_t54_loop v228 v257).trips) : Fin 5 → Nat :=
  let c0_554 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v601 : Index := Scalar.indexCast v226
  let c8_555 : Index := 8#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v602 : Index := Scalar.indexCast v382
  let c0_556 : Index := 0#32
  ![0, v601.toNat, 8, v602.toNat, 0]
def k0_off1988 (v330 : BitVec 32) : Fin 5 → Nat :=
  let c0_557 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v606 : Index := Scalar.indexCast v347
  let c9 : Index := 9#32
  let c0_558 : Index := 0#32
  let c0_559 : Index := 0#32
  ![0, v606.toNat, 9, 0, 0]
def k0_off1989 (v1 : BitVec 32) (k0_t51 : Fin (k0_t51_loop v1).trips) (v228 : BitVec 32) (v257 : BitVec 32) (k0_t54 : Fin (k0_t54_loop v228 v257).trips) : Fin 5 → Nat :=
  let c0_562 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v623 : Index := Scalar.indexCast v226
  let c9_563 : Index := 9#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v624 : Index := Scalar.indexCast v382
  let c0_564 : Index := 0#32
  ![0, v623.toNat, 9, v624.toNat, 0]
def k0_off1990 (v1 : BitVec 32) (k0_t51 : Fin (k0_t51_loop v1).trips) (v228 : BitVec 32) (v257 : BitVec 32) (k0_t54 : Fin (k0_t54_loop v228 v257).trips) : Fin 5 → Nat :=
  let c0_565 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v628 : Index := Scalar.indexCast v226
  let c0_i32_406 : BitVec 32 := 0#32
  let c1_i32_408 : BitVec 32 := 1#32
  let arg19 : BitVec 32 := Scf.iv c0_i32_406 c1_i32_408 k0_t54
  let v629 : Index := Scalar.indexCast arg19
  let c160 : Index := 160#32
  let c0_566 : Index := 0#32
  ![0, v628.toNat, v629.toNat, 160, 0]
def k0_off1991 (v330 : BitVec 32) : Fin 5 → Nat :=
  let c0_567 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v633 : Index := Scalar.indexCast v347
  let c10 : Index := 10#32
  let c0_568 : Index := 0#32
  let c0_569 : Index := 0#32
  ![0, v633.toNat, 10, 0, 0]
def k0_off1992 (v1 : BitVec 32) (k0_t51 : Fin (k0_t51_loop v1).trips) (v228 : BitVec 32) (v257 : BitVec 32) (k0_t54 : Fin (k0_t54_loop v228 v257).trips) : Fin 5 → Nat :=
  let c0_572 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v650 : Index := Scalar.indexCast v226
  let c10_573 : Index := 10#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v651 : Index := Scalar.indexCast v382
  let c0_574 : Index := 0#32
  ![0, v650.toNat, 10, v651.toNat, 0]
def k0_off1993 (v330 : BitVec 32) : Fin 5 → Nat :=
  let c0_575 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v655 : Index := Scalar.indexCast v347
  let c11 : Index := 11#32
  let c0_576 : Index := 0#32
  let c0_577 : Index := 0#32
  ![0, v655.toNat, 11, 0, 0]
def k0_off1994 (v1 : BitVec 32) (k0_t51 : Fin (k0_t51_loop v1).trips) (v228 : BitVec 32) (v257 : BitVec 32) (k0_t54 : Fin (k0_t54_loop v228 v257).trips) : Fin 5 → Nat :=
  let c0_580 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v672 : Index := Scalar.indexCast v226
  let c11_581 : Index := 11#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v673 : Index := Scalar.indexCast v382
  let c0_582 : Index := 0#32
  ![0, v672.toNat, 11, v673.toNat, 0]
def k0_off1995 (v1 : BitVec 32) (k0_t51 : Fin (k0_t51_loop v1).trips) (v228 : BitVec 32) (v257 : BitVec 32) (k0_t54 : Fin (k0_t54_loop v228 v257).trips) : Fin 5 → Nat :=
  let c0_583 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v677 : Index := Scalar.indexCast v226
  let c0_i32_406 : BitVec 32 := 0#32
  let c1_i32_408 : BitVec 32 := 1#32
  let arg19 : BitVec 32 := Scf.iv c0_i32_406 c1_i32_408 k0_t54
  let v678 : Index := Scalar.indexCast arg19
  let c192 : Index := 192#32
  let c0_584 : Index := 0#32
  ![0, v677.toNat, v678.toNat, 192, 0]
def k0_off1996 (v330 : BitVec 32) : Fin 5 → Nat :=
  let c0_585 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v682 : Index := Scalar.indexCast v347
  let c12 : Index := 12#32
  let c0_586 : Index := 0#32
  let c0_587 : Index := 0#32
  ![0, v682.toNat, 12, 0, 0]
def k0_off1997 (v1 : BitVec 32) (k0_t51 : Fin (k0_t51_loop v1).trips) (v228 : BitVec 32) (v257 : BitVec 32) (k0_t54 : Fin (k0_t54_loop v228 v257).trips) : Fin 5 → Nat :=
  let c0_590 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v699 : Index := Scalar.indexCast v226
  let c12_591 : Index := 12#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v700 : Index := Scalar.indexCast v382
  let c0_592 : Index := 0#32
  ![0, v699.toNat, 12, v700.toNat, 0]
def k0_off1998 (v330 : BitVec 32) : Fin 5 → Nat :=
  let c0_593 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v704 : Index := Scalar.indexCast v347
  let c13 : Index := 13#32
  let c0_594 : Index := 0#32
  let c0_595 : Index := 0#32
  ![0, v704.toNat, 13, 0, 0]
def k0_off1999 (v1 : BitVec 32) (k0_t51 : Fin (k0_t51_loop v1).trips) (v228 : BitVec 32) (v257 : BitVec 32) (k0_t54 : Fin (k0_t54_loop v228 v257).trips) : Fin 5 → Nat :=
  let c0_598 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v721 : Index := Scalar.indexCast v226
  let c13_599 : Index := 13#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v722 : Index := Scalar.indexCast v382
  let c0_600 : Index := 0#32
  ![0, v721.toNat, 13, v722.toNat, 0]
def k0_off2000 (v1 : BitVec 32) (k0_t51 : Fin (k0_t51_loop v1).trips) (v228 : BitVec 32) (v257 : BitVec 32) (k0_t54 : Fin (k0_t54_loop v228 v257).trips) : Fin 5 → Nat :=
  let c0_601 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v726 : Index := Scalar.indexCast v226
  let c0_i32_406 : BitVec 32 := 0#32
  let c1_i32_408 : BitVec 32 := 1#32
  let arg19 : BitVec 32 := Scf.iv c0_i32_406 c1_i32_408 k0_t54
  let v727 : Index := Scalar.indexCast arg19
  let c224 : Index := 224#32
  let c0_602 : Index := 0#32
  ![0, v726.toNat, v727.toNat, 224, 0]
def k0_off2001 (v330 : BitVec 32) : Fin 5 → Nat :=
  let c0_603 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v731 : Index := Scalar.indexCast v347
  let c14 : Index := 14#32
  let c0_604 : Index := 0#32
  let c0_605 : Index := 0#32
  ![0, v731.toNat, 14, 0, 0]
def k0_off2002 (v1 : BitVec 32) (k0_t51 : Fin (k0_t51_loop v1).trips) (v228 : BitVec 32) (v257 : BitVec 32) (k0_t54 : Fin (k0_t54_loop v228 v257).trips) : Fin 5 → Nat :=
  let c0_608 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v748 : Index := Scalar.indexCast v226
  let c14_609 : Index := 14#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v749 : Index := Scalar.indexCast v382
  let c0_610 : Index := 0#32
  ![0, v748.toNat, 14, v749.toNat, 0]
def k0_off2003 (v330 : BitVec 32) : Fin 5 → Nat :=
  let c0_611 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v753 : Index := Scalar.indexCast v347
  let c15 : Index := 15#32
  let c0_612 : Index := 0#32
  let c0_613 : Index := 0#32
  ![0, v753.toNat, 15, 0, 0]
def k0_off2004 (v1 : BitVec 32) (k0_t51 : Fin (k0_t51_loop v1).trips) (v228 : BitVec 32) (v257 : BitVec 32) (k0_t54 : Fin (k0_t54_loop v228 v257).trips) : Fin 5 → Nat :=
  let c0_616 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v770 : Index := Scalar.indexCast v226
  let c15_617 : Index := 15#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v771 : Index := Scalar.indexCast v382
  let c0_618 : Index := 0#32
  ![0, v770.toNat, 15, v771.toNat, 0]
def k0_off2005 (v1 : BitVec 32) (k0_t51 : Fin (k0_t51_loop v1).trips) (v228 : BitVec 32) (v257 : BitVec 32) (k0_t54 : Fin (k0_t54_loop v228 v257).trips) : Fin 5 → Nat :=
  let c0_619 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v775 : Index := Scalar.indexCast v226
  let c0_i32_406 : BitVec 32 := 0#32
  let c1_i32_408 : BitVec 32 := 1#32
  let arg19 : BitVec 32 := Scf.iv c0_i32_406 c1_i32_408 k0_t54
  let v776 : Index := Scalar.indexCast arg19
  let c256 : Index := 256#32
  let c0_620 : Index := 0#32
  ![0, v775.toNat, v776.toNat, 256, 0]
def k0_off2006 (v330 : BitVec 32) : Fin 5 → Nat :=
  let c0_621 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v780 : Index := Scalar.indexCast v347
  let c16 : Index := 16#32
  let c0_622 : Index := 0#32
  let c0_623 : Index := 0#32
  ![0, v780.toNat, 16, 0, 0]
def k0_off2007 (v1 : BitVec 32) (k0_t51 : Fin (k0_t51_loop v1).trips) (v228 : BitVec 32) (v257 : BitVec 32) (k0_t54 : Fin (k0_t54_loop v228 v257).trips) : Fin 5 → Nat :=
  let c0_626 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v797 : Index := Scalar.indexCast v226
  let c16_627 : Index := 16#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v798 : Index := Scalar.indexCast v382
  let c0_628 : Index := 0#32
  ![0, v797.toNat, 16, v798.toNat, 0]
def k0_off2008 (v330 : BitVec 32) : Fin 5 → Nat :=
  let c0_629 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v802 : Index := Scalar.indexCast v347
  let c17 : Index := 17#32
  let c0_630 : Index := 0#32
  let c0_631 : Index := 0#32
  ![0, v802.toNat, 17, 0, 0]
def k0_off2009 (v1 : BitVec 32) (k0_t51 : Fin (k0_t51_loop v1).trips) (v228 : BitVec 32) (v257 : BitVec 32) (k0_t54 : Fin (k0_t54_loop v228 v257).trips) : Fin 5 → Nat :=
  let c0_634 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v819 : Index := Scalar.indexCast v226
  let c17_635 : Index := 17#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v820 : Index := Scalar.indexCast v382
  let c0_636 : Index := 0#32
  ![0, v819.toNat, 17, v820.toNat, 0]
def k0_off2010 (v1 : BitVec 32) (k0_t51 : Fin (k0_t51_loop v1).trips) (v228 : BitVec 32) (v257 : BitVec 32) (k0_t54 : Fin (k0_t54_loop v228 v257).trips) : Fin 5 → Nat :=
  let c0_637 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v824 : Index := Scalar.indexCast v226
  let c0_i32_406 : BitVec 32 := 0#32
  let c1_i32_408 : BitVec 32 := 1#32
  let arg19 : BitVec 32 := Scf.iv c0_i32_406 c1_i32_408 k0_t54
  let v825 : Index := Scalar.indexCast arg19
  let c288 : Index := 288#32
  let c0_638 : Index := 0#32
  ![0, v824.toNat, v825.toNat, 288, 0]
def k0_off2011 (v330 : BitVec 32) : Fin 5 → Nat :=
  let c0_639 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v829 : Index := Scalar.indexCast v347
  let c18 : Index := 18#32
  let c0_640 : Index := 0#32
  let c0_641 : Index := 0#32
  ![0, v829.toNat, 18, 0, 0]
def k0_off2012 (v1 : BitVec 32) (k0_t51 : Fin (k0_t51_loop v1).trips) (v228 : BitVec 32) (v257 : BitVec 32) (k0_t54 : Fin (k0_t54_loop v228 v257).trips) : Fin 5 → Nat :=
  let c0_644 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v846 : Index := Scalar.indexCast v226
  let c18_645 : Index := 18#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v847 : Index := Scalar.indexCast v382
  let c0_646 : Index := 0#32
  ![0, v846.toNat, 18, v847.toNat, 0]
def k0_off2013 (v330 : BitVec 32) : Fin 5 → Nat :=
  let c0_647 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v851 : Index := Scalar.indexCast v347
  let c19 : Index := 19#32
  let c0_648 : Index := 0#32
  let c0_649 : Index := 0#32
  ![0, v851.toNat, 19, 0, 0]
def k0_off2014 (v1 : BitVec 32) (k0_t51 : Fin (k0_t51_loop v1).trips) (v228 : BitVec 32) (v257 : BitVec 32) (k0_t54 : Fin (k0_t54_loop v228 v257).trips) : Fin 5 → Nat :=
  let c0_652 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v868 : Index := Scalar.indexCast v226
  let c19_653 : Index := 19#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v869 : Index := Scalar.indexCast v382
  let c0_654 : Index := 0#32
  ![0, v868.toNat, 19, v869.toNat, 0]
def k0_off2015 (v1 : BitVec 32) (k0_t51 : Fin (k0_t51_loop v1).trips) (v228 : BitVec 32) (v257 : BitVec 32) (k0_t54 : Fin (k0_t54_loop v228 v257).trips) : Fin 5 → Nat :=
  let c0_655 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v873 : Index := Scalar.indexCast v226
  let c0_i32_406 : BitVec 32 := 0#32
  let c1_i32_408 : BitVec 32 := 1#32
  let arg19 : BitVec 32 := Scf.iv c0_i32_406 c1_i32_408 k0_t54
  let v874 : Index := Scalar.indexCast arg19
  let c320 : Index := 320#32
  let c0_656 : Index := 0#32
  ![0, v873.toNat, v874.toNat, 320, 0]
def k0_off2016 (v330 : BitVec 32) : Fin 5 → Nat :=
  let c0_657 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v878 : Index := Scalar.indexCast v347
  let c20 : Index := 20#32
  let c0_658 : Index := 0#32
  let c0_659 : Index := 0#32
  ![0, v878.toNat, 20, 0, 0]
def k0_off2017 (v1 : BitVec 32) (k0_t51 : Fin (k0_t51_loop v1).trips) (v228 : BitVec 32) (v257 : BitVec 32) (k0_t54 : Fin (k0_t54_loop v228 v257).trips) : Fin 5 → Nat :=
  let c0_662 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v895 : Index := Scalar.indexCast v226
  let c20_663 : Index := 20#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v896 : Index := Scalar.indexCast v382
  let c0_664 : Index := 0#32
  ![0, v895.toNat, 20, v896.toNat, 0]
def k0_off2018 (v330 : BitVec 32) : Fin 5 → Nat :=
  let c0_665 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v900 : Index := Scalar.indexCast v347
  let c21 : Index := 21#32
  let c0_666 : Index := 0#32
  let c0_667 : Index := 0#32
  ![0, v900.toNat, 21, 0, 0]
def k0_off2019 (v1 : BitVec 32) (k0_t51 : Fin (k0_t51_loop v1).trips) (v228 : BitVec 32) (v257 : BitVec 32) (k0_t54 : Fin (k0_t54_loop v228 v257).trips) : Fin 5 → Nat :=
  let c0_670 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v917 : Index := Scalar.indexCast v226
  let c21_671 : Index := 21#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v918 : Index := Scalar.indexCast v382
  let c0_672 : Index := 0#32
  ![0, v917.toNat, 21, v918.toNat, 0]
def k0_off2020 (v1 : BitVec 32) (k0_t51 : Fin (k0_t51_loop v1).trips) (v228 : BitVec 32) (v257 : BitVec 32) (k0_t54 : Fin (k0_t54_loop v228 v257).trips) : Fin 5 → Nat :=
  let c0_673 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v922 : Index := Scalar.indexCast v226
  let c0_i32_406 : BitVec 32 := 0#32
  let c1_i32_408 : BitVec 32 := 1#32
  let arg19 : BitVec 32 := Scf.iv c0_i32_406 c1_i32_408 k0_t54
  let v923 : Index := Scalar.indexCast arg19
  let c352 : Index := 352#32
  let c0_674 : Index := 0#32
  ![0, v922.toNat, v923.toNat, 352, 0]
def k0_off2021 (v330 : BitVec 32) : Fin 5 → Nat :=
  let c0_675 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v927 : Index := Scalar.indexCast v347
  let c22 : Index := 22#32
  let c0_676 : Index := 0#32
  let c0_677 : Index := 0#32
  ![0, v927.toNat, 22, 0, 0]
def k0_off2022 (v1 : BitVec 32) (k0_t51 : Fin (k0_t51_loop v1).trips) (v228 : BitVec 32) (v257 : BitVec 32) (k0_t54 : Fin (k0_t54_loop v228 v257).trips) : Fin 5 → Nat :=
  let c0_680 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v944 : Index := Scalar.indexCast v226
  let c22_681 : Index := 22#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v945 : Index := Scalar.indexCast v382
  let c0_682 : Index := 0#32
  ![0, v944.toNat, 22, v945.toNat, 0]
def k0_off2023 (v330 : BitVec 32) : Fin 5 → Nat :=
  let c0_683 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v949 : Index := Scalar.indexCast v347
  let c23 : Index := 23#32
  let c0_684 : Index := 0#32
  let c0_685 : Index := 0#32
  ![0, v949.toNat, 23, 0, 0]
def k0_off2024 (v1 : BitVec 32) (k0_t51 : Fin (k0_t51_loop v1).trips) (v228 : BitVec 32) (v257 : BitVec 32) (k0_t54 : Fin (k0_t54_loop v228 v257).trips) : Fin 5 → Nat :=
  let c0_688 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v966 : Index := Scalar.indexCast v226
  let c23_689 : Index := 23#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v967 : Index := Scalar.indexCast v382
  let c0_690 : Index := 0#32
  ![0, v966.toNat, 23, v967.toNat, 0]
def k0_off2025 (v1 : BitVec 32) (k0_t51 : Fin (k0_t51_loop v1).trips) (v228 : BitVec 32) (v257 : BitVec 32) (k0_t54 : Fin (k0_t54_loop v228 v257).trips) : Fin 5 → Nat :=
  let c0_691 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v971 : Index := Scalar.indexCast v226
  let c0_i32_406 : BitVec 32 := 0#32
  let c1_i32_408 : BitVec 32 := 1#32
  let arg19 : BitVec 32 := Scf.iv c0_i32_406 c1_i32_408 k0_t54
  let v972 : Index := Scalar.indexCast arg19
  let c384 : Index := 384#32
  let c0_692 : Index := 0#32
  ![0, v971.toNat, v972.toNat, 384, 0]
def k0_off2026 (v330 : BitVec 32) : Fin 5 → Nat :=
  let c0_693 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v976 : Index := Scalar.indexCast v347
  let c24 : Index := 24#32
  let c0_694 : Index := 0#32
  let c0_695 : Index := 0#32
  ![0, v976.toNat, 24, 0, 0]
def k0_off2027 (v1 : BitVec 32) (k0_t51 : Fin (k0_t51_loop v1).trips) (v228 : BitVec 32) (v257 : BitVec 32) (k0_t54 : Fin (k0_t54_loop v228 v257).trips) : Fin 5 → Nat :=
  let c0_698 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v993 : Index := Scalar.indexCast v226
  let c24_699 : Index := 24#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v994 : Index := Scalar.indexCast v382
  let c0_700 : Index := 0#32
  ![0, v993.toNat, 24, v994.toNat, 0]
def k0_off2028 (v330 : BitVec 32) : Fin 5 → Nat :=
  let c0_701 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v998 : Index := Scalar.indexCast v347
  let c25 : Index := 25#32
  let c0_702 : Index := 0#32
  let c0_703 : Index := 0#32
  ![0, v998.toNat, 25, 0, 0]
def k0_off2029 (v1 : BitVec 32) (k0_t51 : Fin (k0_t51_loop v1).trips) (v228 : BitVec 32) (v257 : BitVec 32) (k0_t54 : Fin (k0_t54_loop v228 v257).trips) : Fin 5 → Nat :=
  let c0_706 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1015 : Index := Scalar.indexCast v226
  let c25_707 : Index := 25#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1016 : Index := Scalar.indexCast v382
  let c0_708 : Index := 0#32
  ![0, v1015.toNat, 25, v1016.toNat, 0]
def k0_off2030 (v1 : BitVec 32) (k0_t51 : Fin (k0_t51_loop v1).trips) (v228 : BitVec 32) (v257 : BitVec 32) (k0_t54 : Fin (k0_t54_loop v228 v257).trips) : Fin 5 → Nat :=
  let c0_709 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1020 : Index := Scalar.indexCast v226
  let c0_i32_406 : BitVec 32 := 0#32
  let c1_i32_408 : BitVec 32 := 1#32
  let arg19 : BitVec 32 := Scf.iv c0_i32_406 c1_i32_408 k0_t54
  let v1021 : Index := Scalar.indexCast arg19
  let c416 : Index := 416#32
  let c0_710 : Index := 0#32
  ![0, v1020.toNat, v1021.toNat, 416, 0]
def k0_off2031 (v330 : BitVec 32) : Fin 5 → Nat :=
  let c0_711 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1025 : Index := Scalar.indexCast v347
  let c26 : Index := 26#32
  let c0_712 : Index := 0#32
  let c0_713 : Index := 0#32
  ![0, v1025.toNat, 26, 0, 0]
def k0_off2032 (v1 : BitVec 32) (k0_t51 : Fin (k0_t51_loop v1).trips) (v228 : BitVec 32) (v257 : BitVec 32) (k0_t54 : Fin (k0_t54_loop v228 v257).trips) : Fin 5 → Nat :=
  let c0_716 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1042 : Index := Scalar.indexCast v226
  let c26_717 : Index := 26#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1043 : Index := Scalar.indexCast v382
  let c0_718 : Index := 0#32
  ![0, v1042.toNat, 26, v1043.toNat, 0]
def k0_off2033 (v330 : BitVec 32) : Fin 5 → Nat :=
  let c0_719 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1047 : Index := Scalar.indexCast v347
  let c27 : Index := 27#32
  let c0_720 : Index := 0#32
  let c0_721 : Index := 0#32
  ![0, v1047.toNat, 27, 0, 0]
def k0_off2034 (v1 : BitVec 32) (k0_t51 : Fin (k0_t51_loop v1).trips) (v228 : BitVec 32) (v257 : BitVec 32) (k0_t54 : Fin (k0_t54_loop v228 v257).trips) : Fin 5 → Nat :=
  let c0_724 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1064 : Index := Scalar.indexCast v226
  let c27_725 : Index := 27#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1065 : Index := Scalar.indexCast v382
  let c0_726 : Index := 0#32
  ![0, v1064.toNat, 27, v1065.toNat, 0]
def k0_off2035 (v1 : BitVec 32) (k0_t51 : Fin (k0_t51_loop v1).trips) (v228 : BitVec 32) (v257 : BitVec 32) (k0_t54 : Fin (k0_t54_loop v228 v257).trips) : Fin 5 → Nat :=
  let c0_727 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1069 : Index := Scalar.indexCast v226
  let c0_i32_406 : BitVec 32 := 0#32
  let c1_i32_408 : BitVec 32 := 1#32
  let arg19 : BitVec 32 := Scf.iv c0_i32_406 c1_i32_408 k0_t54
  let v1070 : Index := Scalar.indexCast arg19
  let c448 : Index := 448#32
  let c0_728 : Index := 0#32
  ![0, v1069.toNat, v1070.toNat, 448, 0]
def k0_off2036 (v330 : BitVec 32) : Fin 5 → Nat :=
  let c0_729 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1074 : Index := Scalar.indexCast v347
  let c28 : Index := 28#32
  let c0_730 : Index := 0#32
  let c0_731 : Index := 0#32
  ![0, v1074.toNat, 28, 0, 0]
def k0_off2037 (v1 : BitVec 32) (k0_t51 : Fin (k0_t51_loop v1).trips) (v228 : BitVec 32) (v257 : BitVec 32) (k0_t54 : Fin (k0_t54_loop v228 v257).trips) : Fin 5 → Nat :=
  let c0_734 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1091 : Index := Scalar.indexCast v226
  let c28_735 : Index := 28#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1092 : Index := Scalar.indexCast v382
  let c0_736 : Index := 0#32
  ![0, v1091.toNat, 28, v1092.toNat, 0]
def k0_off2038 (v330 : BitVec 32) : Fin 5 → Nat :=
  let c0_737 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1096 : Index := Scalar.indexCast v347
  let c29 : Index := 29#32
  let c0_738 : Index := 0#32
  let c0_739 : Index := 0#32
  ![0, v1096.toNat, 29, 0, 0]
def k0_off2039 (v1 : BitVec 32) (k0_t51 : Fin (k0_t51_loop v1).trips) (v228 : BitVec 32) (v257 : BitVec 32) (k0_t54 : Fin (k0_t54_loop v228 v257).trips) : Fin 5 → Nat :=
  let c0_742 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1113 : Index := Scalar.indexCast v226
  let c29_743 : Index := 29#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1114 : Index := Scalar.indexCast v382
  let c0_744 : Index := 0#32
  ![0, v1113.toNat, 29, v1114.toNat, 0]
def k0_off2040 (v1 : BitVec 32) (k0_t51 : Fin (k0_t51_loop v1).trips) (v228 : BitVec 32) (v257 : BitVec 32) (k0_t54 : Fin (k0_t54_loop v228 v257).trips) : Fin 5 → Nat :=
  let c0_745 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1118 : Index := Scalar.indexCast v226
  let c0_i32_406 : BitVec 32 := 0#32
  let c1_i32_408 : BitVec 32 := 1#32
  let arg19 : BitVec 32 := Scf.iv c0_i32_406 c1_i32_408 k0_t54
  let v1119 : Index := Scalar.indexCast arg19
  let c480 : Index := 480#32
  let c0_746 : Index := 0#32
  ![0, v1118.toNat, v1119.toNat, 480, 0]
def k0_off2041 (v330 : BitVec 32) : Fin 5 → Nat :=
  let c0_747 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1123 : Index := Scalar.indexCast v347
  let c30 : Index := 30#32
  let c0_748 : Index := 0#32
  let c0_749 : Index := 0#32
  ![0, v1123.toNat, 30, 0, 0]
def k0_off2042 (v1 : BitVec 32) (k0_t51 : Fin (k0_t51_loop v1).trips) (v228 : BitVec 32) (v257 : BitVec 32) (k0_t54 : Fin (k0_t54_loop v228 v257).trips) : Fin 5 → Nat :=
  let c0_752 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1140 : Index := Scalar.indexCast v226
  let c30_753 : Index := 30#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1141 : Index := Scalar.indexCast v382
  let c0_754 : Index := 0#32
  ![0, v1140.toNat, 30, v1141.toNat, 0]
def k0_off2043 (v330 : BitVec 32) : Fin 5 → Nat :=
  let c0_755 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1145 : Index := Scalar.indexCast v347
  let c31 : Index := 31#32
  let c0_756 : Index := 0#32
  let c0_757 : Index := 0#32
  ![0, v1145.toNat, 31, 0, 0]
def k0_off2044 (v1 : BitVec 32) (k0_t51 : Fin (k0_t51_loop v1).trips) (v228 : BitVec 32) (v257 : BitVec 32) (k0_t54 : Fin (k0_t54_loop v228 v257).trips) : Fin 5 → Nat :=
  let c0_760 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1162 : Index := Scalar.indexCast v226
  let c31_761 : Index := 31#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1163 : Index := Scalar.indexCast v382
  let c0_762 : Index := 0#32
  ![0, v1162.toNat, 31, v1163.toNat, 0]
def k0_off2045 (v1 : BitVec 32) (k0_t51 : Fin (k0_t51_loop v1).trips) (v228 : BitVec 32) (v257 : BitVec 32) (k0_t54 : Fin (k0_t54_loop v228 v257).trips) : Fin 5 → Nat :=
  let c0_763 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1167 : Index := Scalar.indexCast v226
  let c0_i32_406 : BitVec 32 := 0#32
  let c1_i32_408 : BitVec 32 := 1#32
  let arg19 : BitVec 32 := Scf.iv c0_i32_406 c1_i32_408 k0_t54
  let v1168 : Index := Scalar.indexCast arg19
  let c512 : Index := 512#32
  let c0_764 : Index := 0#32
  ![0, v1167.toNat, v1168.toNat, 512, 0]
def k0_off2046 (v330 : BitVec 32) : Fin 5 → Nat :=
  let c0_765 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1172 : Index := Scalar.indexCast v347
  let c32_766 : Index := 32#32
  let c0_767 : Index := 0#32
  let c0_768 : Index := 0#32
  ![0, v1172.toNat, 32, 0, 0]
def k0_off2047 (v1 : BitVec 32) (k0_t51 : Fin (k0_t51_loop v1).trips) (v228 : BitVec 32) (v257 : BitVec 32) (k0_t54 : Fin (k0_t54_loop v228 v257).trips) : Fin 5 → Nat :=
  let c0_771 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1189 : Index := Scalar.indexCast v226
  let c32_772 : Index := 32#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1190 : Index := Scalar.indexCast v382
  let c0_773 : Index := 0#32
  ![0, v1189.toNat, 32, v1190.toNat, 0]
def k0_off2048 (v330 : BitVec 32) : Fin 5 → Nat :=
  let c0_774 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1194 : Index := Scalar.indexCast v347
  let c33 : Index := 33#32
  let c0_775 : Index := 0#32
  let c0_776 : Index := 0#32
  ![0, v1194.toNat, 33, 0, 0]
def k0_off2049 (v1 : BitVec 32) (k0_t51 : Fin (k0_t51_loop v1).trips) (v228 : BitVec 32) (v257 : BitVec 32) (k0_t54 : Fin (k0_t54_loop v228 v257).trips) : Fin 5 → Nat :=
  let c0_779 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1211 : Index := Scalar.indexCast v226
  let c33_780 : Index := 33#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1212 : Index := Scalar.indexCast v382
  let c0_781 : Index := 0#32
  ![0, v1211.toNat, 33, v1212.toNat, 0]
def k0_off2050 (v1 : BitVec 32) (k0_t51 : Fin (k0_t51_loop v1).trips) (v228 : BitVec 32) (v257 : BitVec 32) (k0_t54 : Fin (k0_t54_loop v228 v257).trips) : Fin 5 → Nat :=
  let c0_782 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1216 : Index := Scalar.indexCast v226
  let c0_i32_406 : BitVec 32 := 0#32
  let c1_i32_408 : BitVec 32 := 1#32
  let arg19 : BitVec 32 := Scf.iv c0_i32_406 c1_i32_408 k0_t54
  let v1217 : Index := Scalar.indexCast arg19
  let c544 : Index := 544#32
  let c0_783 : Index := 0#32
  ![0, v1216.toNat, v1217.toNat, 544, 0]
def k0_off2051 (v330 : BitVec 32) : Fin 5 → Nat :=
  let c0_784 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1221 : Index := Scalar.indexCast v347
  let c34 : Index := 34#32
  let c0_785 : Index := 0#32
  let c0_786 : Index := 0#32
  ![0, v1221.toNat, 34, 0, 0]
def k0_off2052 (v1 : BitVec 32) (k0_t51 : Fin (k0_t51_loop v1).trips) (v228 : BitVec 32) (v257 : BitVec 32) (k0_t54 : Fin (k0_t54_loop v228 v257).trips) : Fin 5 → Nat :=
  let c0_789 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1238 : Index := Scalar.indexCast v226
  let c34_790 : Index := 34#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1239 : Index := Scalar.indexCast v382
  let c0_791 : Index := 0#32
  ![0, v1238.toNat, 34, v1239.toNat, 0]
def k0_off2053 (v330 : BitVec 32) : Fin 5 → Nat :=
  let c0_792 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1243 : Index := Scalar.indexCast v347
  let c35 : Index := 35#32
  let c0_793 : Index := 0#32
  let c0_794 : Index := 0#32
  ![0, v1243.toNat, 35, 0, 0]
def k0_off2054 (v1 : BitVec 32) (k0_t51 : Fin (k0_t51_loop v1).trips) (v228 : BitVec 32) (v257 : BitVec 32) (k0_t54 : Fin (k0_t54_loop v228 v257).trips) : Fin 5 → Nat :=
  let c0_797 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1260 : Index := Scalar.indexCast v226
  let c35_798 : Index := 35#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1261 : Index := Scalar.indexCast v382
  let c0_799 : Index := 0#32
  ![0, v1260.toNat, 35, v1261.toNat, 0]
def k0_off2055 (v1 : BitVec 32) (k0_t51 : Fin (k0_t51_loop v1).trips) (v228 : BitVec 32) (v257 : BitVec 32) (k0_t54 : Fin (k0_t54_loop v228 v257).trips) : Fin 5 → Nat :=
  let c0_800 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1265 : Index := Scalar.indexCast v226
  let c0_i32_406 : BitVec 32 := 0#32
  let c1_i32_408 : BitVec 32 := 1#32
  let arg19 : BitVec 32 := Scf.iv c0_i32_406 c1_i32_408 k0_t54
  let v1266 : Index := Scalar.indexCast arg19
  let c576 : Index := 576#32
  let c0_801 : Index := 0#32
  ![0, v1265.toNat, v1266.toNat, 576, 0]
def k0_off2056 (v330 : BitVec 32) : Fin 5 → Nat :=
  let c0_802 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1270 : Index := Scalar.indexCast v347
  let c36 : Index := 36#32
  let c0_803 : Index := 0#32
  let c0_804 : Index := 0#32
  ![0, v1270.toNat, 36, 0, 0]
def k0_off2057 (v1 : BitVec 32) (k0_t51 : Fin (k0_t51_loop v1).trips) (v228 : BitVec 32) (v257 : BitVec 32) (k0_t54 : Fin (k0_t54_loop v228 v257).trips) : Fin 5 → Nat :=
  let c0_807 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1287 : Index := Scalar.indexCast v226
  let c36_808 : Index := 36#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1288 : Index := Scalar.indexCast v382
  let c0_809 : Index := 0#32
  ![0, v1287.toNat, 36, v1288.toNat, 0]
def k0_off2058 (v330 : BitVec 32) : Fin 5 → Nat :=
  let c0_810 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1292 : Index := Scalar.indexCast v347
  let c37 : Index := 37#32
  let c0_811 : Index := 0#32
  let c0_812 : Index := 0#32
  ![0, v1292.toNat, 37, 0, 0]
def k0_off2059 (v1 : BitVec 32) (k0_t51 : Fin (k0_t51_loop v1).trips) (v228 : BitVec 32) (v257 : BitVec 32) (k0_t54 : Fin (k0_t54_loop v228 v257).trips) : Fin 5 → Nat :=
  let c0_815 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1309 : Index := Scalar.indexCast v226
  let c37_816 : Index := 37#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1310 : Index := Scalar.indexCast v382
  let c0_817 : Index := 0#32
  ![0, v1309.toNat, 37, v1310.toNat, 0]
def k0_off2060 (v1 : BitVec 32) (k0_t51 : Fin (k0_t51_loop v1).trips) (v228 : BitVec 32) (v257 : BitVec 32) (k0_t54 : Fin (k0_t54_loop v228 v257).trips) : Fin 5 → Nat :=
  let c0_818 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1314 : Index := Scalar.indexCast v226
  let c0_i32_406 : BitVec 32 := 0#32
  let c1_i32_408 : BitVec 32 := 1#32
  let arg19 : BitVec 32 := Scf.iv c0_i32_406 c1_i32_408 k0_t54
  let v1315 : Index := Scalar.indexCast arg19
  let c608 : Index := 608#32
  let c0_819 : Index := 0#32
  ![0, v1314.toNat, v1315.toNat, 608, 0]
def k0_off2061 (v330 : BitVec 32) : Fin 5 → Nat :=
  let c0_820 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1319 : Index := Scalar.indexCast v347
  let c38 : Index := 38#32
  let c0_821 : Index := 0#32
  let c0_822 : Index := 0#32
  ![0, v1319.toNat, 38, 0, 0]
def k0_off2062 (v1 : BitVec 32) (k0_t51 : Fin (k0_t51_loop v1).trips) (v228 : BitVec 32) (v257 : BitVec 32) (k0_t54 : Fin (k0_t54_loop v228 v257).trips) : Fin 5 → Nat :=
  let c0_825 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1336 : Index := Scalar.indexCast v226
  let c38_826 : Index := 38#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1337 : Index := Scalar.indexCast v382
  let c0_827 : Index := 0#32
  ![0, v1336.toNat, 38, v1337.toNat, 0]
def k0_off2063 (v330 : BitVec 32) : Fin 5 → Nat :=
  let c0_828 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1341 : Index := Scalar.indexCast v347
  let c39 : Index := 39#32
  let c0_829 : Index := 0#32
  let c0_830 : Index := 0#32
  ![0, v1341.toNat, 39, 0, 0]
def k0_off2064 (v1 : BitVec 32) (k0_t51 : Fin (k0_t51_loop v1).trips) (v228 : BitVec 32) (v257 : BitVec 32) (k0_t54 : Fin (k0_t54_loop v228 v257).trips) : Fin 5 → Nat :=
  let c0_833 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1358 : Index := Scalar.indexCast v226
  let c39_834 : Index := 39#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1359 : Index := Scalar.indexCast v382
  let c0_835 : Index := 0#32
  ![0, v1358.toNat, 39, v1359.toNat, 0]
def k0_off2065 (v1 : BitVec 32) (k0_t51 : Fin (k0_t51_loop v1).trips) (v228 : BitVec 32) (v257 : BitVec 32) (k0_t54 : Fin (k0_t54_loop v228 v257).trips) : Fin 5 → Nat :=
  let c0_836 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1363 : Index := Scalar.indexCast v226
  let c0_i32_406 : BitVec 32 := 0#32
  let c1_i32_408 : BitVec 32 := 1#32
  let arg19 : BitVec 32 := Scf.iv c0_i32_406 c1_i32_408 k0_t54
  let v1364 : Index := Scalar.indexCast arg19
  let c640 : Index := 640#32
  let c0_837 : Index := 0#32
  ![0, v1363.toNat, v1364.toNat, 640, 0]
def k0_off2066 (v330 : BitVec 32) : Fin 5 → Nat :=
  let c0_838 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1368 : Index := Scalar.indexCast v347
  let c40 : Index := 40#32
  let c0_839 : Index := 0#32
  let c0_840 : Index := 0#32
  ![0, v1368.toNat, 40, 0, 0]
def k0_off2067 (v1 : BitVec 32) (k0_t51 : Fin (k0_t51_loop v1).trips) (v228 : BitVec 32) (v257 : BitVec 32) (k0_t54 : Fin (k0_t54_loop v228 v257).trips) : Fin 5 → Nat :=
  let c0_843 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1385 : Index := Scalar.indexCast v226
  let c40_844 : Index := 40#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1386 : Index := Scalar.indexCast v382
  let c0_845 : Index := 0#32
  ![0, v1385.toNat, 40, v1386.toNat, 0]
def k0_off2068 (v330 : BitVec 32) : Fin 5 → Nat :=
  let c0_846 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1390 : Index := Scalar.indexCast v347
  let c41 : Index := 41#32
  let c0_847 : Index := 0#32
  let c0_848 : Index := 0#32
  ![0, v1390.toNat, 41, 0, 0]
def k0_off2069 (v1 : BitVec 32) (k0_t51 : Fin (k0_t51_loop v1).trips) (v228 : BitVec 32) (v257 : BitVec 32) (k0_t54 : Fin (k0_t54_loop v228 v257).trips) : Fin 5 → Nat :=
  let c0_851 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1407 : Index := Scalar.indexCast v226
  let c41_852 : Index := 41#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1408 : Index := Scalar.indexCast v382
  let c0_853 : Index := 0#32
  ![0, v1407.toNat, 41, v1408.toNat, 0]
def k0_off2070 (v1 : BitVec 32) (k0_t51 : Fin (k0_t51_loop v1).trips) (v228 : BitVec 32) (v257 : BitVec 32) (k0_t54 : Fin (k0_t54_loop v228 v257).trips) : Fin 5 → Nat :=
  let c0_854 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1412 : Index := Scalar.indexCast v226
  let c0_i32_406 : BitVec 32 := 0#32
  let c1_i32_408 : BitVec 32 := 1#32
  let arg19 : BitVec 32 := Scf.iv c0_i32_406 c1_i32_408 k0_t54
  let v1413 : Index := Scalar.indexCast arg19
  let c672 : Index := 672#32
  let c0_855 : Index := 0#32
  ![0, v1412.toNat, v1413.toNat, 672, 0]
def k0_off2071 (v330 : BitVec 32) : Fin 5 → Nat :=
  let c0_856 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1417 : Index := Scalar.indexCast v347
  let c42 : Index := 42#32
  let c0_857 : Index := 0#32
  let c0_858 : Index := 0#32
  ![0, v1417.toNat, 42, 0, 0]
def k0_off2072 (v1 : BitVec 32) (k0_t51 : Fin (k0_t51_loop v1).trips) (v228 : BitVec 32) (v257 : BitVec 32) (k0_t54 : Fin (k0_t54_loop v228 v257).trips) : Fin 5 → Nat :=
  let c0_861 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1434 : Index := Scalar.indexCast v226
  let c42_862 : Index := 42#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1435 : Index := Scalar.indexCast v382
  let c0_863 : Index := 0#32
  ![0, v1434.toNat, 42, v1435.toNat, 0]
def k0_off2073 (v330 : BitVec 32) : Fin 5 → Nat :=
  let c0_864 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1439 : Index := Scalar.indexCast v347
  let c43 : Index := 43#32
  let c0_865 : Index := 0#32
  let c0_866 : Index := 0#32
  ![0, v1439.toNat, 43, 0, 0]
def k0_off2074 (v1 : BitVec 32) (k0_t51 : Fin (k0_t51_loop v1).trips) (v228 : BitVec 32) (v257 : BitVec 32) (k0_t54 : Fin (k0_t54_loop v228 v257).trips) : Fin 5 → Nat :=
  let c0_869 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1456 : Index := Scalar.indexCast v226
  let c43_870 : Index := 43#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1457 : Index := Scalar.indexCast v382
  let c0_871 : Index := 0#32
  ![0, v1456.toNat, 43, v1457.toNat, 0]
def k0_off2075 (v1 : BitVec 32) (k0_t51 : Fin (k0_t51_loop v1).trips) (v228 : BitVec 32) (v257 : BitVec 32) (k0_t54 : Fin (k0_t54_loop v228 v257).trips) : Fin 5 → Nat :=
  let c0_872 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1461 : Index := Scalar.indexCast v226
  let c0_i32_406 : BitVec 32 := 0#32
  let c1_i32_408 : BitVec 32 := 1#32
  let arg19 : BitVec 32 := Scf.iv c0_i32_406 c1_i32_408 k0_t54
  let v1462 : Index := Scalar.indexCast arg19
  let c704 : Index := 704#32
  let c0_873 : Index := 0#32
  ![0, v1461.toNat, v1462.toNat, 704, 0]
def k0_off2076 (v330 : BitVec 32) : Fin 5 → Nat :=
  let c0_874 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1466 : Index := Scalar.indexCast v347
  let c44 : Index := 44#32
  let c0_875 : Index := 0#32
  let c0_876 : Index := 0#32
  ![0, v1466.toNat, 44, 0, 0]
def k0_off2077 (v1 : BitVec 32) (k0_t51 : Fin (k0_t51_loop v1).trips) (v228 : BitVec 32) (v257 : BitVec 32) (k0_t54 : Fin (k0_t54_loop v228 v257).trips) : Fin 5 → Nat :=
  let c0_879 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1483 : Index := Scalar.indexCast v226
  let c44_880 : Index := 44#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1484 : Index := Scalar.indexCast v382
  let c0_881 : Index := 0#32
  ![0, v1483.toNat, 44, v1484.toNat, 0]
def k0_off2078 (v330 : BitVec 32) : Fin 5 → Nat :=
  let c0_882 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1488 : Index := Scalar.indexCast v347
  let c45 : Index := 45#32
  let c0_883 : Index := 0#32
  let c0_884 : Index := 0#32
  ![0, v1488.toNat, 45, 0, 0]
def k0_off2079 (v1 : BitVec 32) (k0_t51 : Fin (k0_t51_loop v1).trips) (v228 : BitVec 32) (v257 : BitVec 32) (k0_t54 : Fin (k0_t54_loop v228 v257).trips) : Fin 5 → Nat :=
  let c0_887 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1505 : Index := Scalar.indexCast v226
  let c45_888 : Index := 45#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1506 : Index := Scalar.indexCast v382
  let c0_889 : Index := 0#32
  ![0, v1505.toNat, 45, v1506.toNat, 0]
def k0_off2080 (v1 : BitVec 32) (k0_t51 : Fin (k0_t51_loop v1).trips) (v228 : BitVec 32) (v257 : BitVec 32) (k0_t54 : Fin (k0_t54_loop v228 v257).trips) : Fin 5 → Nat :=
  let c0_890 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1510 : Index := Scalar.indexCast v226
  let c0_i32_406 : BitVec 32 := 0#32
  let c1_i32_408 : BitVec 32 := 1#32
  let arg19 : BitVec 32 := Scf.iv c0_i32_406 c1_i32_408 k0_t54
  let v1511 : Index := Scalar.indexCast arg19
  let c736 : Index := 736#32
  let c0_891 : Index := 0#32
  ![0, v1510.toNat, v1511.toNat, 736, 0]
def k0_off2081 (v330 : BitVec 32) : Fin 5 → Nat :=
  let c0_892 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1515 : Index := Scalar.indexCast v347
  let c46 : Index := 46#32
  let c0_893 : Index := 0#32
  let c0_894 : Index := 0#32
  ![0, v1515.toNat, 46, 0, 0]
def k0_off2082 (v1 : BitVec 32) (k0_t51 : Fin (k0_t51_loop v1).trips) (v228 : BitVec 32) (v257 : BitVec 32) (k0_t54 : Fin (k0_t54_loop v228 v257).trips) : Fin 5 → Nat :=
  let c0_897 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1532 : Index := Scalar.indexCast v226
  let c46_898 : Index := 46#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1533 : Index := Scalar.indexCast v382
  let c0_899 : Index := 0#32
  ![0, v1532.toNat, 46, v1533.toNat, 0]
def k0_off2083 (v330 : BitVec 32) : Fin 5 → Nat :=
  let c0_900 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1537 : Index := Scalar.indexCast v347
  let c47 : Index := 47#32
  let c0_901 : Index := 0#32
  let c0_902 : Index := 0#32
  ![0, v1537.toNat, 47, 0, 0]
def k0_off2084 (v1 : BitVec 32) (k0_t51 : Fin (k0_t51_loop v1).trips) (v228 : BitVec 32) (v257 : BitVec 32) (k0_t54 : Fin (k0_t54_loop v228 v257).trips) : Fin 5 → Nat :=
  let c0_905 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1554 : Index := Scalar.indexCast v226
  let c47_906 : Index := 47#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1555 : Index := Scalar.indexCast v382
  let c0_907 : Index := 0#32
  ![0, v1554.toNat, 47, v1555.toNat, 0]
def k0_off2085 (v1 : BitVec 32) (k0_t51 : Fin (k0_t51_loop v1).trips) (v228 : BitVec 32) (v257 : BitVec 32) (k0_t54 : Fin (k0_t54_loop v228 v257).trips) : Fin 5 → Nat :=
  let c0_908 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1559 : Index := Scalar.indexCast v226
  let c0_i32_406 : BitVec 32 := 0#32
  let c1_i32_408 : BitVec 32 := 1#32
  let arg19 : BitVec 32 := Scf.iv c0_i32_406 c1_i32_408 k0_t54
  let v1560 : Index := Scalar.indexCast arg19
  let c768 : Index := 768#32
  let c0_909 : Index := 0#32
  ![0, v1559.toNat, v1560.toNat, 768, 0]
def k0_off2086 (v330 : BitVec 32) : Fin 5 → Nat :=
  let c0_910 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1564 : Index := Scalar.indexCast v347
  let c48 : Index := 48#32
  let c0_911 : Index := 0#32
  let c0_912 : Index := 0#32
  ![0, v1564.toNat, 48, 0, 0]
def k0_off2087 (v1 : BitVec 32) (k0_t51 : Fin (k0_t51_loop v1).trips) (v228 : BitVec 32) (v257 : BitVec 32) (k0_t54 : Fin (k0_t54_loop v228 v257).trips) : Fin 5 → Nat :=
  let c0_915 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1581 : Index := Scalar.indexCast v226
  let c48_916 : Index := 48#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1582 : Index := Scalar.indexCast v382
  let c0_917 : Index := 0#32
  ![0, v1581.toNat, 48, v1582.toNat, 0]
def k0_off2088 (v330 : BitVec 32) : Fin 5 → Nat :=
  let c0_918 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1586 : Index := Scalar.indexCast v347
  let c49 : Index := 49#32
  let c0_919 : Index := 0#32
  let c0_920 : Index := 0#32
  ![0, v1586.toNat, 49, 0, 0]
def k0_off2089 (v1 : BitVec 32) (k0_t51 : Fin (k0_t51_loop v1).trips) (v228 : BitVec 32) (v257 : BitVec 32) (k0_t54 : Fin (k0_t54_loop v228 v257).trips) : Fin 5 → Nat :=
  let c0_923 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1603 : Index := Scalar.indexCast v226
  let c49_924 : Index := 49#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1604 : Index := Scalar.indexCast v382
  let c0_925 : Index := 0#32
  ![0, v1603.toNat, 49, v1604.toNat, 0]
def k0_off2090 (v1 : BitVec 32) (k0_t51 : Fin (k0_t51_loop v1).trips) (v228 : BitVec 32) (v257 : BitVec 32) (k0_t54 : Fin (k0_t54_loop v228 v257).trips) : Fin 5 → Nat :=
  let c0_926 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1608 : Index := Scalar.indexCast v226
  let c0_i32_406 : BitVec 32 := 0#32
  let c1_i32_408 : BitVec 32 := 1#32
  let arg19 : BitVec 32 := Scf.iv c0_i32_406 c1_i32_408 k0_t54
  let v1609 : Index := Scalar.indexCast arg19
  let c800 : Index := 800#32
  let c0_927 : Index := 0#32
  ![0, v1608.toNat, v1609.toNat, 800, 0]
def k0_off2091 (v330 : BitVec 32) : Fin 5 → Nat :=
  let c0_928 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1613 : Index := Scalar.indexCast v347
  let c50 : Index := 50#32
  let c0_929 : Index := 0#32
  let c0_930 : Index := 0#32
  ![0, v1613.toNat, 50, 0, 0]
def k0_off2092 (v1 : BitVec 32) (k0_t51 : Fin (k0_t51_loop v1).trips) (v228 : BitVec 32) (v257 : BitVec 32) (k0_t54 : Fin (k0_t54_loop v228 v257).trips) : Fin 5 → Nat :=
  let c0_933 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1630 : Index := Scalar.indexCast v226
  let c50_934 : Index := 50#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1631 : Index := Scalar.indexCast v382
  let c0_935 : Index := 0#32
  ![0, v1630.toNat, 50, v1631.toNat, 0]
def k0_off2093 (v330 : BitVec 32) : Fin 5 → Nat :=
  let c0_936 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1635 : Index := Scalar.indexCast v347
  let c51 : Index := 51#32
  let c0_937 : Index := 0#32
  let c0_938 : Index := 0#32
  ![0, v1635.toNat, 51, 0, 0]
def k0_off2094 (v1 : BitVec 32) (k0_t51 : Fin (k0_t51_loop v1).trips) (v228 : BitVec 32) (v257 : BitVec 32) (k0_t54 : Fin (k0_t54_loop v228 v257).trips) : Fin 5 → Nat :=
  let c0_941 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1652 : Index := Scalar.indexCast v226
  let c51_942 : Index := 51#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1653 : Index := Scalar.indexCast v382
  let c0_943 : Index := 0#32
  ![0, v1652.toNat, 51, v1653.toNat, 0]
def k0_off2095 (v1 : BitVec 32) (k0_t51 : Fin (k0_t51_loop v1).trips) (v228 : BitVec 32) (v257 : BitVec 32) (k0_t54 : Fin (k0_t54_loop v228 v257).trips) : Fin 5 → Nat :=
  let c0_944 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1657 : Index := Scalar.indexCast v226
  let c0_i32_406 : BitVec 32 := 0#32
  let c1_i32_408 : BitVec 32 := 1#32
  let arg19 : BitVec 32 := Scf.iv c0_i32_406 c1_i32_408 k0_t54
  let v1658 : Index := Scalar.indexCast arg19
  let c832 : Index := 832#32
  let c0_945 : Index := 0#32
  ![0, v1657.toNat, v1658.toNat, 832, 0]
def k0_off2096 (v330 : BitVec 32) : Fin 5 → Nat :=
  let c0_946 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1662 : Index := Scalar.indexCast v347
  let c52 : Index := 52#32
  let c0_947 : Index := 0#32
  let c0_948 : Index := 0#32
  ![0, v1662.toNat, 52, 0, 0]
def k0_off2097 (v1 : BitVec 32) (k0_t51 : Fin (k0_t51_loop v1).trips) (v228 : BitVec 32) (v257 : BitVec 32) (k0_t54 : Fin (k0_t54_loop v228 v257).trips) : Fin 5 → Nat :=
  let c0_951 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1679 : Index := Scalar.indexCast v226
  let c52_952 : Index := 52#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1680 : Index := Scalar.indexCast v382
  let c0_953 : Index := 0#32
  ![0, v1679.toNat, 52, v1680.toNat, 0]
def k0_off2098 (v330 : BitVec 32) : Fin 5 → Nat :=
  let c0_954 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1684 : Index := Scalar.indexCast v347
  let c53 : Index := 53#32
  let c0_955 : Index := 0#32
  let c0_956 : Index := 0#32
  ![0, v1684.toNat, 53, 0, 0]
def k0_off2099 (v1 : BitVec 32) (k0_t51 : Fin (k0_t51_loop v1).trips) (v228 : BitVec 32) (v257 : BitVec 32) (k0_t54 : Fin (k0_t54_loop v228 v257).trips) : Fin 5 → Nat :=
  let c0_959 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1701 : Index := Scalar.indexCast v226
  let c53_960 : Index := 53#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1702 : Index := Scalar.indexCast v382
  let c0_961 : Index := 0#32
  ![0, v1701.toNat, 53, v1702.toNat, 0]
def k0_off2100 (v1 : BitVec 32) (k0_t51 : Fin (k0_t51_loop v1).trips) (v228 : BitVec 32) (v257 : BitVec 32) (k0_t54 : Fin (k0_t54_loop v228 v257).trips) : Fin 5 → Nat :=
  let c0_962 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1706 : Index := Scalar.indexCast v226
  let c0_i32_406 : BitVec 32 := 0#32
  let c1_i32_408 : BitVec 32 := 1#32
  let arg19 : BitVec 32 := Scf.iv c0_i32_406 c1_i32_408 k0_t54
  let v1707 : Index := Scalar.indexCast arg19
  let c864 : Index := 864#32
  let c0_963 : Index := 0#32
  ![0, v1706.toNat, v1707.toNat, 864, 0]
def k0_off2101 (v330 : BitVec 32) : Fin 5 → Nat :=
  let c0_964 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1711 : Index := Scalar.indexCast v347
  let c54 : Index := 54#32
  let c0_965 : Index := 0#32
  let c0_966 : Index := 0#32
  ![0, v1711.toNat, 54, 0, 0]
def k0_off2102 (v1 : BitVec 32) (k0_t51 : Fin (k0_t51_loop v1).trips) (v228 : BitVec 32) (v257 : BitVec 32) (k0_t54 : Fin (k0_t54_loop v228 v257).trips) : Fin 5 → Nat :=
  let c0_969 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1728 : Index := Scalar.indexCast v226
  let c54_970 : Index := 54#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1729 : Index := Scalar.indexCast v382
  let c0_971 : Index := 0#32
  ![0, v1728.toNat, 54, v1729.toNat, 0]
def k0_off2103 (v330 : BitVec 32) : Fin 5 → Nat :=
  let c0_972 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1733 : Index := Scalar.indexCast v347
  let c55 : Index := 55#32
  let c0_973 : Index := 0#32
  let c0_974 : Index := 0#32
  ![0, v1733.toNat, 55, 0, 0]
def k0_off2104 (v1 : BitVec 32) (k0_t51 : Fin (k0_t51_loop v1).trips) (v228 : BitVec 32) (v257 : BitVec 32) (k0_t54 : Fin (k0_t54_loop v228 v257).trips) : Fin 5 → Nat :=
  let c0_977 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1750 : Index := Scalar.indexCast v226
  let c55_978 : Index := 55#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1751 : Index := Scalar.indexCast v382
  let c0_979 : Index := 0#32
  ![0, v1750.toNat, 55, v1751.toNat, 0]
def k0_off2105 (v1 : BitVec 32) (k0_t51 : Fin (k0_t51_loop v1).trips) (v228 : BitVec 32) (v257 : BitVec 32) (k0_t54 : Fin (k0_t54_loop v228 v257).trips) : Fin 5 → Nat :=
  let c0_980 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1755 : Index := Scalar.indexCast v226
  let c0_i32_406 : BitVec 32 := 0#32
  let c1_i32_408 : BitVec 32 := 1#32
  let arg19 : BitVec 32 := Scf.iv c0_i32_406 c1_i32_408 k0_t54
  let v1756 : Index := Scalar.indexCast arg19
  let c896 : Index := 896#32
  let c0_981 : Index := 0#32
  ![0, v1755.toNat, v1756.toNat, 896, 0]
def k0_off2106 (v330 : BitVec 32) : Fin 5 → Nat :=
  let c0_982 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1760 : Index := Scalar.indexCast v347
  let c56 : Index := 56#32
  let c0_983 : Index := 0#32
  let c0_984 : Index := 0#32
  ![0, v1760.toNat, 56, 0, 0]
def k0_off2107 (v1 : BitVec 32) (k0_t51 : Fin (k0_t51_loop v1).trips) (v228 : BitVec 32) (v257 : BitVec 32) (k0_t54 : Fin (k0_t54_loop v228 v257).trips) : Fin 5 → Nat :=
  let c0_987 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1777 : Index := Scalar.indexCast v226
  let c56_988 : Index := 56#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1778 : Index := Scalar.indexCast v382
  let c0_989 : Index := 0#32
  ![0, v1777.toNat, 56, v1778.toNat, 0]
def k0_off2108 (v330 : BitVec 32) : Fin 5 → Nat :=
  let c0_990 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1782 : Index := Scalar.indexCast v347
  let c57 : Index := 57#32
  let c0_991 : Index := 0#32
  let c0_992 : Index := 0#32
  ![0, v1782.toNat, 57, 0, 0]
def k0_off2109 (v1 : BitVec 32) (k0_t51 : Fin (k0_t51_loop v1).trips) (v228 : BitVec 32) (v257 : BitVec 32) (k0_t54 : Fin (k0_t54_loop v228 v257).trips) : Fin 5 → Nat :=
  let c0_995 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1799 : Index := Scalar.indexCast v226
  let c57_996 : Index := 57#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1800 : Index := Scalar.indexCast v382
  let c0_997 : Index := 0#32
  ![0, v1799.toNat, 57, v1800.toNat, 0]
def k0_off2110 (v1 : BitVec 32) (k0_t51 : Fin (k0_t51_loop v1).trips) (v228 : BitVec 32) (v257 : BitVec 32) (k0_t54 : Fin (k0_t54_loop v228 v257).trips) : Fin 5 → Nat :=
  let c0_998 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1804 : Index := Scalar.indexCast v226
  let c0_i32_406 : BitVec 32 := 0#32
  let c1_i32_408 : BitVec 32 := 1#32
  let arg19 : BitVec 32 := Scf.iv c0_i32_406 c1_i32_408 k0_t54
  let v1805 : Index := Scalar.indexCast arg19
  let c928 : Index := 928#32
  let c0_999 : Index := 0#32
  ![0, v1804.toNat, v1805.toNat, 928, 0]
def k0_off2111 (v330 : BitVec 32) : Fin 5 → Nat :=
  let c0_1000 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1809 : Index := Scalar.indexCast v347
  let c58 : Index := 58#32
  let c0_1001 : Index := 0#32
  let c0_1002 : Index := 0#32
  ![0, v1809.toNat, 58, 0, 0]
def k0_off2112 (v1 : BitVec 32) (k0_t51 : Fin (k0_t51_loop v1).trips) (v228 : BitVec 32) (v257 : BitVec 32) (k0_t54 : Fin (k0_t54_loop v228 v257).trips) : Fin 5 → Nat :=
  let c0_1005 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1826 : Index := Scalar.indexCast v226
  let c58_1006 : Index := 58#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1827 : Index := Scalar.indexCast v382
  let c0_1007 : Index := 0#32
  ![0, v1826.toNat, 58, v1827.toNat, 0]
def k0_off2113 (v330 : BitVec 32) : Fin 5 → Nat :=
  let c0_1008 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1831 : Index := Scalar.indexCast v347
  let c59 : Index := 59#32
  let c0_1009 : Index := 0#32
  let c0_1010 : Index := 0#32
  ![0, v1831.toNat, 59, 0, 0]
def k0_off2114 (v1 : BitVec 32) (k0_t51 : Fin (k0_t51_loop v1).trips) (v228 : BitVec 32) (v257 : BitVec 32) (k0_t54 : Fin (k0_t54_loop v228 v257).trips) : Fin 5 → Nat :=
  let c0_1013 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1848 : Index := Scalar.indexCast v226
  let c59_1014 : Index := 59#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1849 : Index := Scalar.indexCast v382
  let c0_1015 : Index := 0#32
  ![0, v1848.toNat, 59, v1849.toNat, 0]
def k0_off2115 (v1 : BitVec 32) (k0_t51 : Fin (k0_t51_loop v1).trips) (v228 : BitVec 32) (v257 : BitVec 32) (k0_t54 : Fin (k0_t54_loop v228 v257).trips) : Fin 5 → Nat :=
  let c0_1016 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1853 : Index := Scalar.indexCast v226
  let c0_i32_406 : BitVec 32 := 0#32
  let c1_i32_408 : BitVec 32 := 1#32
  let arg19 : BitVec 32 := Scf.iv c0_i32_406 c1_i32_408 k0_t54
  let v1854 : Index := Scalar.indexCast arg19
  let c960 : Index := 960#32
  let c0_1017 : Index := 0#32
  ![0, v1853.toNat, v1854.toNat, 960, 0]
def k0_off2116 (v330 : BitVec 32) : Fin 5 → Nat :=
  let c0_1018 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1858 : Index := Scalar.indexCast v347
  let c60 : Index := 60#32
  let c0_1019 : Index := 0#32
  let c0_1020 : Index := 0#32
  ![0, v1858.toNat, 60, 0, 0]
def k0_off2117 (v1 : BitVec 32) (k0_t51 : Fin (k0_t51_loop v1).trips) (v228 : BitVec 32) (v257 : BitVec 32) (k0_t54 : Fin (k0_t54_loop v228 v257).trips) : Fin 5 → Nat :=
  let c0_1023 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1875 : Index := Scalar.indexCast v226
  let c60_1024 : Index := 60#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1876 : Index := Scalar.indexCast v382
  let c0_1025 : Index := 0#32
  ![0, v1875.toNat, 60, v1876.toNat, 0]
def k0_off2118 (v330 : BitVec 32) : Fin 5 → Nat :=
  let c0_1026 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1880 : Index := Scalar.indexCast v347
  let c61 : Index := 61#32
  let c0_1027 : Index := 0#32
  let c0_1028 : Index := 0#32
  ![0, v1880.toNat, 61, 0, 0]
def k0_off2119 (v1 : BitVec 32) (k0_t51 : Fin (k0_t51_loop v1).trips) (v228 : BitVec 32) (v257 : BitVec 32) (k0_t54 : Fin (k0_t54_loop v228 v257).trips) : Fin 5 → Nat :=
  let c0_1031 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1897 : Index := Scalar.indexCast v226
  let c61_1032 : Index := 61#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1898 : Index := Scalar.indexCast v382
  let c0_1033 : Index := 0#32
  ![0, v1897.toNat, 61, v1898.toNat, 0]
def k0_off2120 (v1 : BitVec 32) (k0_t51 : Fin (k0_t51_loop v1).trips) (v228 : BitVec 32) (v257 : BitVec 32) (k0_t54 : Fin (k0_t54_loop v228 v257).trips) : Fin 5 → Nat :=
  let c0_1034 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1902 : Index := Scalar.indexCast v226
  let c0_i32_406 : BitVec 32 := 0#32
  let c1_i32_408 : BitVec 32 := 1#32
  let arg19 : BitVec 32 := Scf.iv c0_i32_406 c1_i32_408 k0_t54
  let v1903 : Index := Scalar.indexCast arg19
  let c992 : Index := 992#32
  let c0_1035 : Index := 0#32
  ![0, v1902.toNat, v1903.toNat, 992, 0]
def k0_off2121 (v330 : BitVec 32) : Fin 5 → Nat :=
  let c0_1036 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1907 : Index := Scalar.indexCast v347
  let c62 : Index := 62#32
  let c0_1037 : Index := 0#32
  let c0_1038 : Index := 0#32
  ![0, v1907.toNat, 62, 0, 0]
def k0_off2122 (v1 : BitVec 32) (k0_t51 : Fin (k0_t51_loop v1).trips) (v228 : BitVec 32) (v257 : BitVec 32) (k0_t54 : Fin (k0_t54_loop v228 v257).trips) : Fin 5 → Nat :=
  let c0_1041 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1924 : Index := Scalar.indexCast v226
  let c62_1042 : Index := 62#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1925 : Index := Scalar.indexCast v382
  let c0_1043 : Index := 0#32
  ![0, v1924.toNat, 62, v1925.toNat, 0]
def k0_off2123 (v330 : BitVec 32) : Fin 5 → Nat :=
  let c0_1044 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1929 : Index := Scalar.indexCast v347
  let c63 : Index := 63#32
  let c0_1045 : Index := 0#32
  let c0_1046 : Index := 0#32
  ![0, v1929.toNat, 63, 0, 0]
def k0_off2124 (v1 : BitVec 32) (k0_t51 : Fin (k0_t51_loop v1).trips) (v228 : BitVec 32) (v257 : BitVec 32) (k0_t54 : Fin (k0_t54_loop v228 v257).trips) : Fin 5 → Nat :=
  let c0_1049 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1946 : Index := Scalar.indexCast v226
  let c63_1050 : Index := 63#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1947 : Index := Scalar.indexCast v382
  let c0_1051 : Index := 0#32
  ![0, v1946.toNat, 63, v1947.toNat, 0]
def k0_off2125 (v1 : BitVec 32) (k0_t51 : Fin (k0_t51_loop v1).trips) (v228 : BitVec 32) (v257 : BitVec 32) (k0_t54 : Fin (k0_t54_loop v228 v257).trips) : Fin 5 → Nat :=
  let c0_1052 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1951 : Index := Scalar.indexCast v226
  let c0_i32_406 : BitVec 32 := 0#32
  let c1_i32_408 : BitVec 32 := 1#32
  let arg19 : BitVec 32 := Scf.iv c0_i32_406 c1_i32_408 k0_t54
  let v1952 : Index := Scalar.indexCast arg19
  let c1024 : Index := 1024#32
  let c0_1053 : Index := 0#32
  ![0, v1951.toNat, v1952.toNat, 1024, 0]
def k0_off2126 (v330 : BitVec 32) : Fin 5 → Nat :=
  let c0_1054 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1956 : Index := Scalar.indexCast v347
  let c64_1055 : Index := 64#32
  let c0_1056 : Index := 0#32
  let c0_1057 : Index := 0#32
  ![0, v1956.toNat, 64, 0, 0]
def k0_off2127 (v1 : BitVec 32) (k0_t51 : Fin (k0_t51_loop v1).trips) (v228 : BitVec 32) (v257 : BitVec 32) (k0_t54 : Fin (k0_t54_loop v228 v257).trips) : Fin 5 → Nat :=
  let c0_1060 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1973 : Index := Scalar.indexCast v226
  let c64_1061 : Index := 64#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1974 : Index := Scalar.indexCast v382
  let c0_1062 : Index := 0#32
  ![0, v1973.toNat, 64, v1974.toNat, 0]
def k0_off2128 (v330 : BitVec 32) : Fin 5 → Nat :=
  let c0_1063 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1978 : Index := Scalar.indexCast v347
  let c65 : Index := 65#32
  let c0_1064 : Index := 0#32
  let c0_1065 : Index := 0#32
  ![0, v1978.toNat, 65, 0, 0]
def k0_off2129 (v1 : BitVec 32) (k0_t51 : Fin (k0_t51_loop v1).trips) (v228 : BitVec 32) (v257 : BitVec 32) (k0_t54 : Fin (k0_t54_loop v228 v257).trips) : Fin 5 → Nat :=
  let c0_1068 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1995 : Index := Scalar.indexCast v226
  let c65_1069 : Index := 65#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v1996 : Index := Scalar.indexCast v382
  let c0_1070 : Index := 0#32
  ![0, v1995.toNat, 65, v1996.toNat, 0]
def k0_off2130 (v1 : BitVec 32) (k0_t51 : Fin (k0_t51_loop v1).trips) (v228 : BitVec 32) (v257 : BitVec 32) (k0_t54 : Fin (k0_t54_loop v228 v257).trips) : Fin 5 → Nat :=
  let c0_1071 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2000 : Index := Scalar.indexCast v226
  let c0_i32_406 : BitVec 32 := 0#32
  let c1_i32_408 : BitVec 32 := 1#32
  let arg19 : BitVec 32 := Scf.iv c0_i32_406 c1_i32_408 k0_t54
  let v2001 : Index := Scalar.indexCast arg19
  let c1056 : Index := 1056#32
  let c0_1072 : Index := 0#32
  ![0, v2000.toNat, v2001.toNat, 1056, 0]
def k0_off2131 (v330 : BitVec 32) : Fin 5 → Nat :=
  let c0_1073 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2005 : Index := Scalar.indexCast v347
  let c66 : Index := 66#32
  let c0_1074 : Index := 0#32
  let c0_1075 : Index := 0#32
  ![0, v2005.toNat, 66, 0, 0]
def k0_off2132 (v1 : BitVec 32) (k0_t51 : Fin (k0_t51_loop v1).trips) (v228 : BitVec 32) (v257 : BitVec 32) (k0_t54 : Fin (k0_t54_loop v228 v257).trips) : Fin 5 → Nat :=
  let c0_1078 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2022 : Index := Scalar.indexCast v226
  let c66_1079 : Index := 66#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2023 : Index := Scalar.indexCast v382
  let c0_1080 : Index := 0#32
  ![0, v2022.toNat, 66, v2023.toNat, 0]
def k0_off2133 (v330 : BitVec 32) : Fin 5 → Nat :=
  let c0_1081 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2027 : Index := Scalar.indexCast v347
  let c67 : Index := 67#32
  let c0_1082 : Index := 0#32
  let c0_1083 : Index := 0#32
  ![0, v2027.toNat, 67, 0, 0]
def k0_off2134 (v1 : BitVec 32) (k0_t51 : Fin (k0_t51_loop v1).trips) (v228 : BitVec 32) (v257 : BitVec 32) (k0_t54 : Fin (k0_t54_loop v228 v257).trips) : Fin 5 → Nat :=
  let c0_1086 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2044 : Index := Scalar.indexCast v226
  let c67_1087 : Index := 67#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2045 : Index := Scalar.indexCast v382
  let c0_1088 : Index := 0#32
  ![0, v2044.toNat, 67, v2045.toNat, 0]
def k0_off2135 (v1 : BitVec 32) (k0_t51 : Fin (k0_t51_loop v1).trips) (v228 : BitVec 32) (v257 : BitVec 32) (k0_t54 : Fin (k0_t54_loop v228 v257).trips) : Fin 5 → Nat :=
  let c0_1089 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2049 : Index := Scalar.indexCast v226
  let c0_i32_406 : BitVec 32 := 0#32
  let c1_i32_408 : BitVec 32 := 1#32
  let arg19 : BitVec 32 := Scf.iv c0_i32_406 c1_i32_408 k0_t54
  let v2050 : Index := Scalar.indexCast arg19
  let c1088 : Index := 1088#32
  let c0_1090 : Index := 0#32
  ![0, v2049.toNat, v2050.toNat, 1088, 0]
def k0_off2136 (v330 : BitVec 32) : Fin 5 → Nat :=
  let c0_1091 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2054 : Index := Scalar.indexCast v347
  let c68 : Index := 68#32
  let c0_1092 : Index := 0#32
  let c0_1093 : Index := 0#32
  ![0, v2054.toNat, 68, 0, 0]
def k0_off2137 (v1 : BitVec 32) (k0_t51 : Fin (k0_t51_loop v1).trips) (v228 : BitVec 32) (v257 : BitVec 32) (k0_t54 : Fin (k0_t54_loop v228 v257).trips) : Fin 5 → Nat :=
  let c0_1096 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2071 : Index := Scalar.indexCast v226
  let c68_1097 : Index := 68#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2072 : Index := Scalar.indexCast v382
  let c0_1098 : Index := 0#32
  ![0, v2071.toNat, 68, v2072.toNat, 0]
def k0_off2138 (v330 : BitVec 32) : Fin 5 → Nat :=
  let c0_1099 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2076 : Index := Scalar.indexCast v347
  let c69 : Index := 69#32
  let c0_1100 : Index := 0#32
  let c0_1101 : Index := 0#32
  ![0, v2076.toNat, 69, 0, 0]
def k0_off2139 (v1 : BitVec 32) (k0_t51 : Fin (k0_t51_loop v1).trips) (v228 : BitVec 32) (v257 : BitVec 32) (k0_t54 : Fin (k0_t54_loop v228 v257).trips) : Fin 5 → Nat :=
  let c0_1104 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2093 : Index := Scalar.indexCast v226
  let c69_1105 : Index := 69#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2094 : Index := Scalar.indexCast v382
  let c0_1106 : Index := 0#32
  ![0, v2093.toNat, 69, v2094.toNat, 0]
def k0_off2140 (v1 : BitVec 32) (k0_t51 : Fin (k0_t51_loop v1).trips) (v228 : BitVec 32) (v257 : BitVec 32) (k0_t54 : Fin (k0_t54_loop v228 v257).trips) : Fin 5 → Nat :=
  let c0_1107 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2098 : Index := Scalar.indexCast v226
  let c0_i32_406 : BitVec 32 := 0#32
  let c1_i32_408 : BitVec 32 := 1#32
  let arg19 : BitVec 32 := Scf.iv c0_i32_406 c1_i32_408 k0_t54
  let v2099 : Index := Scalar.indexCast arg19
  let c1120 : Index := 1120#32
  let c0_1108 : Index := 0#32
  ![0, v2098.toNat, v2099.toNat, 1120, 0]
def k0_off2141 (v330 : BitVec 32) : Fin 5 → Nat :=
  let c0_1109 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2103 : Index := Scalar.indexCast v347
  let c70 : Index := 70#32
  let c0_1110 : Index := 0#32
  let c0_1111 : Index := 0#32
  ![0, v2103.toNat, 70, 0, 0]
def k0_off2142 (v1 : BitVec 32) (k0_t51 : Fin (k0_t51_loop v1).trips) (v228 : BitVec 32) (v257 : BitVec 32) (k0_t54 : Fin (k0_t54_loop v228 v257).trips) : Fin 5 → Nat :=
  let c0_1114 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2120 : Index := Scalar.indexCast v226
  let c70_1115 : Index := 70#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2121 : Index := Scalar.indexCast v382
  let c0_1116 : Index := 0#32
  ![0, v2120.toNat, 70, v2121.toNat, 0]
def k0_off2143 (v330 : BitVec 32) : Fin 5 → Nat :=
  let c0_1117 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2125 : Index := Scalar.indexCast v347
  let c71 : Index := 71#32
  let c0_1118 : Index := 0#32
  let c0_1119 : Index := 0#32
  ![0, v2125.toNat, 71, 0, 0]
def k0_off2144 (v1 : BitVec 32) (k0_t51 : Fin (k0_t51_loop v1).trips) (v228 : BitVec 32) (v257 : BitVec 32) (k0_t54 : Fin (k0_t54_loop v228 v257).trips) : Fin 5 → Nat :=
  let c0_1122 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2142 : Index := Scalar.indexCast v226
  let c71_1123 : Index := 71#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2143 : Index := Scalar.indexCast v382
  let c0_1124 : Index := 0#32
  ![0, v2142.toNat, 71, v2143.toNat, 0]
def k0_off2145 (v1 : BitVec 32) (k0_t51 : Fin (k0_t51_loop v1).trips) (v228 : BitVec 32) (v257 : BitVec 32) (k0_t54 : Fin (k0_t54_loop v228 v257).trips) : Fin 5 → Nat :=
  let c0_1125 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2147 : Index := Scalar.indexCast v226
  let c0_i32_406 : BitVec 32 := 0#32
  let c1_i32_408 : BitVec 32 := 1#32
  let arg19 : BitVec 32 := Scf.iv c0_i32_406 c1_i32_408 k0_t54
  let v2148 : Index := Scalar.indexCast arg19
  let c1152 : Index := 1152#32
  let c0_1126 : Index := 0#32
  ![0, v2147.toNat, v2148.toNat, 1152, 0]
def k0_off2146 (v330 : BitVec 32) : Fin 5 → Nat :=
  let c0_1127 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2152 : Index := Scalar.indexCast v347
  let c72 : Index := 72#32
  let c0_1128 : Index := 0#32
  let c0_1129 : Index := 0#32
  ![0, v2152.toNat, 72, 0, 0]
def k0_off2147 (v1 : BitVec 32) (k0_t51 : Fin (k0_t51_loop v1).trips) (v228 : BitVec 32) (v257 : BitVec 32) (k0_t54 : Fin (k0_t54_loop v228 v257).trips) : Fin 5 → Nat :=
  let c0_1132 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2169 : Index := Scalar.indexCast v226
  let c72_1133 : Index := 72#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2170 : Index := Scalar.indexCast v382
  let c0_1134 : Index := 0#32
  ![0, v2169.toNat, 72, v2170.toNat, 0]
def k0_off2148 (v330 : BitVec 32) : Fin 5 → Nat :=
  let c0_1135 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2174 : Index := Scalar.indexCast v347
  let c73 : Index := 73#32
  let c0_1136 : Index := 0#32
  let c0_1137 : Index := 0#32
  ![0, v2174.toNat, 73, 0, 0]
def k0_off2149 (v1 : BitVec 32) (k0_t51 : Fin (k0_t51_loop v1).trips) (v228 : BitVec 32) (v257 : BitVec 32) (k0_t54 : Fin (k0_t54_loop v228 v257).trips) : Fin 5 → Nat :=
  let c0_1140 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2191 : Index := Scalar.indexCast v226
  let c73_1141 : Index := 73#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2192 : Index := Scalar.indexCast v382
  let c0_1142 : Index := 0#32
  ![0, v2191.toNat, 73, v2192.toNat, 0]
def k0_off2150 (v1 : BitVec 32) (k0_t51 : Fin (k0_t51_loop v1).trips) (v228 : BitVec 32) (v257 : BitVec 32) (k0_t54 : Fin (k0_t54_loop v228 v257).trips) : Fin 5 → Nat :=
  let c0_1143 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2196 : Index := Scalar.indexCast v226
  let c0_i32_406 : BitVec 32 := 0#32
  let c1_i32_408 : BitVec 32 := 1#32
  let arg19 : BitVec 32 := Scf.iv c0_i32_406 c1_i32_408 k0_t54
  let v2197 : Index := Scalar.indexCast arg19
  let c1184 : Index := 1184#32
  let c0_1144 : Index := 0#32
  ![0, v2196.toNat, v2197.toNat, 1184, 0]
def k0_off2151 (v330 : BitVec 32) : Fin 5 → Nat :=
  let c0_1145 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2201 : Index := Scalar.indexCast v347
  let c74 : Index := 74#32
  let c0_1146 : Index := 0#32
  let c0_1147 : Index := 0#32
  ![0, v2201.toNat, 74, 0, 0]
def k0_off2152 (v1 : BitVec 32) (k0_t51 : Fin (k0_t51_loop v1).trips) (v228 : BitVec 32) (v257 : BitVec 32) (k0_t54 : Fin (k0_t54_loop v228 v257).trips) : Fin 5 → Nat :=
  let c0_1150 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2218 : Index := Scalar.indexCast v226
  let c74_1151 : Index := 74#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2219 : Index := Scalar.indexCast v382
  let c0_1152 : Index := 0#32
  ![0, v2218.toNat, 74, v2219.toNat, 0]
def k0_off2153 (v330 : BitVec 32) : Fin 5 → Nat :=
  let c0_1153 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2223 : Index := Scalar.indexCast v347
  let c75 : Index := 75#32
  let c0_1154 : Index := 0#32
  let c0_1155 : Index := 0#32
  ![0, v2223.toNat, 75, 0, 0]
def k0_off2154 (v1 : BitVec 32) (k0_t51 : Fin (k0_t51_loop v1).trips) (v228 : BitVec 32) (v257 : BitVec 32) (k0_t54 : Fin (k0_t54_loop v228 v257).trips) : Fin 5 → Nat :=
  let c0_1158 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2240 : Index := Scalar.indexCast v226
  let c75_1159 : Index := 75#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2241 : Index := Scalar.indexCast v382
  let c0_1160 : Index := 0#32
  ![0, v2240.toNat, 75, v2241.toNat, 0]
def k0_off2155 (v1 : BitVec 32) (k0_t51 : Fin (k0_t51_loop v1).trips) (v228 : BitVec 32) (v257 : BitVec 32) (k0_t54 : Fin (k0_t54_loop v228 v257).trips) : Fin 5 → Nat :=
  let c0_1161 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2245 : Index := Scalar.indexCast v226
  let c0_i32_406 : BitVec 32 := 0#32
  let c1_i32_408 : BitVec 32 := 1#32
  let arg19 : BitVec 32 := Scf.iv c0_i32_406 c1_i32_408 k0_t54
  let v2246 : Index := Scalar.indexCast arg19
  let c1216 : Index := 1216#32
  let c0_1162 : Index := 0#32
  ![0, v2245.toNat, v2246.toNat, 1216, 0]
def k0_off2156 (v330 : BitVec 32) : Fin 5 → Nat :=
  let c0_1163 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2250 : Index := Scalar.indexCast v347
  let c76 : Index := 76#32
  let c0_1164 : Index := 0#32
  let c0_1165 : Index := 0#32
  ![0, v2250.toNat, 76, 0, 0]
def k0_off2157 (v1 : BitVec 32) (k0_t51 : Fin (k0_t51_loop v1).trips) (v228 : BitVec 32) (v257 : BitVec 32) (k0_t54 : Fin (k0_t54_loop v228 v257).trips) : Fin 5 → Nat :=
  let c0_1168 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2267 : Index := Scalar.indexCast v226
  let c76_1169 : Index := 76#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2268 : Index := Scalar.indexCast v382
  let c0_1170 : Index := 0#32
  ![0, v2267.toNat, 76, v2268.toNat, 0]
def k0_off2158 (v330 : BitVec 32) : Fin 5 → Nat :=
  let c0_1171 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2272 : Index := Scalar.indexCast v347
  let c77 : Index := 77#32
  let c0_1172 : Index := 0#32
  let c0_1173 : Index := 0#32
  ![0, v2272.toNat, 77, 0, 0]
def k0_off2159 (v1 : BitVec 32) (k0_t51 : Fin (k0_t51_loop v1).trips) (v228 : BitVec 32) (v257 : BitVec 32) (k0_t54 : Fin (k0_t54_loop v228 v257).trips) : Fin 5 → Nat :=
  let c0_1176 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2289 : Index := Scalar.indexCast v226
  let c77_1177 : Index := 77#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2290 : Index := Scalar.indexCast v382
  let c0_1178 : Index := 0#32
  ![0, v2289.toNat, 77, v2290.toNat, 0]
def k0_off2160 (v1 : BitVec 32) (k0_t51 : Fin (k0_t51_loop v1).trips) (v228 : BitVec 32) (v257 : BitVec 32) (k0_t54 : Fin (k0_t54_loop v228 v257).trips) : Fin 5 → Nat :=
  let c0_1179 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2294 : Index := Scalar.indexCast v226
  let c0_i32_406 : BitVec 32 := 0#32
  let c1_i32_408 : BitVec 32 := 1#32
  let arg19 : BitVec 32 := Scf.iv c0_i32_406 c1_i32_408 k0_t54
  let v2295 : Index := Scalar.indexCast arg19
  let c1248 : Index := 1248#32
  let c0_1180 : Index := 0#32
  ![0, v2294.toNat, v2295.toNat, 1248, 0]
def k0_off2161 (v330 : BitVec 32) : Fin 5 → Nat :=
  let c0_1181 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2299 : Index := Scalar.indexCast v347
  let c78 : Index := 78#32
  let c0_1182 : Index := 0#32
  let c0_1183 : Index := 0#32
  ![0, v2299.toNat, 78, 0, 0]
def k0_off2162 (v1 : BitVec 32) (k0_t51 : Fin (k0_t51_loop v1).trips) (v228 : BitVec 32) (v257 : BitVec 32) (k0_t54 : Fin (k0_t54_loop v228 v257).trips) : Fin 5 → Nat :=
  let c0_1186 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2316 : Index := Scalar.indexCast v226
  let c78_1187 : Index := 78#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2317 : Index := Scalar.indexCast v382
  let c0_1188 : Index := 0#32
  ![0, v2316.toNat, 78, v2317.toNat, 0]
def k0_off2163 (v330 : BitVec 32) : Fin 5 → Nat :=
  let c0_1189 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2321 : Index := Scalar.indexCast v347
  let c79 : Index := 79#32
  let c0_1190 : Index := 0#32
  let c0_1191 : Index := 0#32
  ![0, v2321.toNat, 79, 0, 0]
def k0_off2164 (v1 : BitVec 32) (k0_t51 : Fin (k0_t51_loop v1).trips) (v228 : BitVec 32) (v257 : BitVec 32) (k0_t54 : Fin (k0_t54_loop v228 v257).trips) : Fin 5 → Nat :=
  let c0_1194 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2338 : Index := Scalar.indexCast v226
  let c79_1195 : Index := 79#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2339 : Index := Scalar.indexCast v382
  let c0_1196 : Index := 0#32
  ![0, v2338.toNat, 79, v2339.toNat, 0]
def k0_off2165 (v1 : BitVec 32) (k0_t51 : Fin (k0_t51_loop v1).trips) (v228 : BitVec 32) (v257 : BitVec 32) (k0_t54 : Fin (k0_t54_loop v228 v257).trips) : Fin 5 → Nat :=
  let c0_1197 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2343 : Index := Scalar.indexCast v226
  let c0_i32_406 : BitVec 32 := 0#32
  let c1_i32_408 : BitVec 32 := 1#32
  let arg19 : BitVec 32 := Scf.iv c0_i32_406 c1_i32_408 k0_t54
  let v2344 : Index := Scalar.indexCast arg19
  let c1280 : Index := 1280#32
  let c0_1198 : Index := 0#32
  ![0, v2343.toNat, v2344.toNat, 1280, 0]
def k0_off2166 (v330 : BitVec 32) : Fin 5 → Nat :=
  let c0_1199 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2348 : Index := Scalar.indexCast v347
  let c80 : Index := 80#32
  let c0_1200 : Index := 0#32
  let c0_1201 : Index := 0#32
  ![0, v2348.toNat, 80, 0, 0]
def k0_off2167 (v1 : BitVec 32) (k0_t51 : Fin (k0_t51_loop v1).trips) (v228 : BitVec 32) (v257 : BitVec 32) (k0_t54 : Fin (k0_t54_loop v228 v257).trips) : Fin 5 → Nat :=
  let c0_1204 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2365 : Index := Scalar.indexCast v226
  let c80_1205 : Index := 80#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2366 : Index := Scalar.indexCast v382
  let c0_1206 : Index := 0#32
  ![0, v2365.toNat, 80, v2366.toNat, 0]
def k0_off2168 (v330 : BitVec 32) : Fin 5 → Nat :=
  let c0_1207 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2370 : Index := Scalar.indexCast v347
  let c81 : Index := 81#32
  let c0_1208 : Index := 0#32
  let c0_1209 : Index := 0#32
  ![0, v2370.toNat, 81, 0, 0]
def k0_off2169 (v1 : BitVec 32) (k0_t51 : Fin (k0_t51_loop v1).trips) (v228 : BitVec 32) (v257 : BitVec 32) (k0_t54 : Fin (k0_t54_loop v228 v257).trips) : Fin 5 → Nat :=
  let c0_1212 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2387 : Index := Scalar.indexCast v226
  let c81_1213 : Index := 81#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2388 : Index := Scalar.indexCast v382
  let c0_1214 : Index := 0#32
  ![0, v2387.toNat, 81, v2388.toNat, 0]
def k0_off2170 (v1 : BitVec 32) (k0_t51 : Fin (k0_t51_loop v1).trips) (v228 : BitVec 32) (v257 : BitVec 32) (k0_t54 : Fin (k0_t54_loop v228 v257).trips) : Fin 5 → Nat :=
  let c0_1215 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2392 : Index := Scalar.indexCast v226
  let c0_i32_406 : BitVec 32 := 0#32
  let c1_i32_408 : BitVec 32 := 1#32
  let arg19 : BitVec 32 := Scf.iv c0_i32_406 c1_i32_408 k0_t54
  let v2393 : Index := Scalar.indexCast arg19
  let c1312 : Index := 1312#32
  let c0_1216 : Index := 0#32
  ![0, v2392.toNat, v2393.toNat, 1312, 0]
def k0_off2171 (v330 : BitVec 32) : Fin 5 → Nat :=
  let c0_1217 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2397 : Index := Scalar.indexCast v347
  let c82 : Index := 82#32
  let c0_1218 : Index := 0#32
  let c0_1219 : Index := 0#32
  ![0, v2397.toNat, 82, 0, 0]
def k0_off2172 (v1 : BitVec 32) (k0_t51 : Fin (k0_t51_loop v1).trips) (v228 : BitVec 32) (v257 : BitVec 32) (k0_t54 : Fin (k0_t54_loop v228 v257).trips) : Fin 5 → Nat :=
  let c0_1222 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2414 : Index := Scalar.indexCast v226
  let c82_1223 : Index := 82#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2415 : Index := Scalar.indexCast v382
  let c0_1224 : Index := 0#32
  ![0, v2414.toNat, 82, v2415.toNat, 0]
def k0_off2173 (v330 : BitVec 32) : Fin 5 → Nat :=
  let c0_1225 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2419 : Index := Scalar.indexCast v347
  let c83 : Index := 83#32
  let c0_1226 : Index := 0#32
  let c0_1227 : Index := 0#32
  ![0, v2419.toNat, 83, 0, 0]
def k0_off2174 (v1 : BitVec 32) (k0_t51 : Fin (k0_t51_loop v1).trips) (v228 : BitVec 32) (v257 : BitVec 32) (k0_t54 : Fin (k0_t54_loop v228 v257).trips) : Fin 5 → Nat :=
  let c0_1230 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2436 : Index := Scalar.indexCast v226
  let c83_1231 : Index := 83#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2437 : Index := Scalar.indexCast v382
  let c0_1232 : Index := 0#32
  ![0, v2436.toNat, 83, v2437.toNat, 0]
def k0_off2175 (v1 : BitVec 32) (k0_t51 : Fin (k0_t51_loop v1).trips) (v228 : BitVec 32) (v257 : BitVec 32) (k0_t54 : Fin (k0_t54_loop v228 v257).trips) : Fin 5 → Nat :=
  let c0_1233 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2441 : Index := Scalar.indexCast v226
  let c0_i32_406 : BitVec 32 := 0#32
  let c1_i32_408 : BitVec 32 := 1#32
  let arg19 : BitVec 32 := Scf.iv c0_i32_406 c1_i32_408 k0_t54
  let v2442 : Index := Scalar.indexCast arg19
  let c1344 : Index := 1344#32
  let c0_1234 : Index := 0#32
  ![0, v2441.toNat, v2442.toNat, 1344, 0]
def k0_off2176 (v330 : BitVec 32) : Fin 5 → Nat :=
  let c0_1235 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2446 : Index := Scalar.indexCast v347
  let c84 : Index := 84#32
  let c0_1236 : Index := 0#32
  let c0_1237 : Index := 0#32
  ![0, v2446.toNat, 84, 0, 0]
def k0_off2177 (v1 : BitVec 32) (k0_t51 : Fin (k0_t51_loop v1).trips) (v228 : BitVec 32) (v257 : BitVec 32) (k0_t54 : Fin (k0_t54_loop v228 v257).trips) : Fin 5 → Nat :=
  let c0_1240 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2463 : Index := Scalar.indexCast v226
  let c84_1241 : Index := 84#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2464 : Index := Scalar.indexCast v382
  let c0_1242 : Index := 0#32
  ![0, v2463.toNat, 84, v2464.toNat, 0]
def k0_off2178 (v330 : BitVec 32) : Fin 5 → Nat :=
  let c0_1243 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2468 : Index := Scalar.indexCast v347
  let c85 : Index := 85#32
  let c0_1244 : Index := 0#32
  let c0_1245 : Index := 0#32
  ![0, v2468.toNat, 85, 0, 0]
def k0_off2179 (v1 : BitVec 32) (k0_t51 : Fin (k0_t51_loop v1).trips) (v228 : BitVec 32) (v257 : BitVec 32) (k0_t54 : Fin (k0_t54_loop v228 v257).trips) : Fin 5 → Nat :=
  let c0_1248 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2485 : Index := Scalar.indexCast v226
  let c85_1249 : Index := 85#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2486 : Index := Scalar.indexCast v382
  let c0_1250 : Index := 0#32
  ![0, v2485.toNat, 85, v2486.toNat, 0]
def k0_off2180 (v1 : BitVec 32) (k0_t51 : Fin (k0_t51_loop v1).trips) (v228 : BitVec 32) (v257 : BitVec 32) (k0_t54 : Fin (k0_t54_loop v228 v257).trips) : Fin 5 → Nat :=
  let c0_1251 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2490 : Index := Scalar.indexCast v226
  let c0_i32_406 : BitVec 32 := 0#32
  let c1_i32_408 : BitVec 32 := 1#32
  let arg19 : BitVec 32 := Scf.iv c0_i32_406 c1_i32_408 k0_t54
  let v2491 : Index := Scalar.indexCast arg19
  let c1376 : Index := 1376#32
  let c0_1252 : Index := 0#32
  ![0, v2490.toNat, v2491.toNat, 1376, 0]
def k0_off2181 (v330 : BitVec 32) : Fin 5 → Nat :=
  let c0_1253 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2495 : Index := Scalar.indexCast v347
  let c86 : Index := 86#32
  let c0_1254 : Index := 0#32
  let c0_1255 : Index := 0#32
  ![0, v2495.toNat, 86, 0, 0]
def k0_off2182 (v1 : BitVec 32) (k0_t51 : Fin (k0_t51_loop v1).trips) (v228 : BitVec 32) (v257 : BitVec 32) (k0_t54 : Fin (k0_t54_loop v228 v257).trips) : Fin 5 → Nat :=
  let c0_1258 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2512 : Index := Scalar.indexCast v226
  let c86_1259 : Index := 86#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2513 : Index := Scalar.indexCast v382
  let c0_1260 : Index := 0#32
  ![0, v2512.toNat, 86, v2513.toNat, 0]
def k0_off2183 (v330 : BitVec 32) : Fin 5 → Nat :=
  let c0_1261 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2517 : Index := Scalar.indexCast v347
  let c87 : Index := 87#32
  let c0_1262 : Index := 0#32
  let c0_1263 : Index := 0#32
  ![0, v2517.toNat, 87, 0, 0]
def k0_off2184 (v1 : BitVec 32) (k0_t51 : Fin (k0_t51_loop v1).trips) (v228 : BitVec 32) (v257 : BitVec 32) (k0_t54 : Fin (k0_t54_loop v228 v257).trips) : Fin 5 → Nat :=
  let c0_1266 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2534 : Index := Scalar.indexCast v226
  let c87_1267 : Index := 87#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2535 : Index := Scalar.indexCast v382
  let c0_1268 : Index := 0#32
  ![0, v2534.toNat, 87, v2535.toNat, 0]
def k0_off2185 (v1 : BitVec 32) (k0_t51 : Fin (k0_t51_loop v1).trips) (v228 : BitVec 32) (v257 : BitVec 32) (k0_t54 : Fin (k0_t54_loop v228 v257).trips) : Fin 5 → Nat :=
  let c0_1269 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2539 : Index := Scalar.indexCast v226
  let c0_i32_406 : BitVec 32 := 0#32
  let c1_i32_408 : BitVec 32 := 1#32
  let arg19 : BitVec 32 := Scf.iv c0_i32_406 c1_i32_408 k0_t54
  let v2540 : Index := Scalar.indexCast arg19
  let c1408 : Index := 1408#32
  let c0_1270 : Index := 0#32
  ![0, v2539.toNat, v2540.toNat, 1408, 0]
def k0_off2186 (v330 : BitVec 32) : Fin 5 → Nat :=
  let c0_1271 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2544 : Index := Scalar.indexCast v347
  let c88 : Index := 88#32
  let c0_1272 : Index := 0#32
  let c0_1273 : Index := 0#32
  ![0, v2544.toNat, 88, 0, 0]
def k0_off2187 (v1 : BitVec 32) (k0_t51 : Fin (k0_t51_loop v1).trips) (v228 : BitVec 32) (v257 : BitVec 32) (k0_t54 : Fin (k0_t54_loop v228 v257).trips) : Fin 5 → Nat :=
  let c0_1276 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2561 : Index := Scalar.indexCast v226
  let c88_1277 : Index := 88#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2562 : Index := Scalar.indexCast v382
  let c0_1278 : Index := 0#32
  ![0, v2561.toNat, 88, v2562.toNat, 0]
def k0_off2188 (v330 : BitVec 32) : Fin 5 → Nat :=
  let c0_1279 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2566 : Index := Scalar.indexCast v347
  let c89 : Index := 89#32
  let c0_1280 : Index := 0#32
  let c0_1281 : Index := 0#32
  ![0, v2566.toNat, 89, 0, 0]
def k0_off2189 (v1 : BitVec 32) (k0_t51 : Fin (k0_t51_loop v1).trips) (v228 : BitVec 32) (v257 : BitVec 32) (k0_t54 : Fin (k0_t54_loop v228 v257).trips) : Fin 5 → Nat :=
  let c0_1284 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2583 : Index := Scalar.indexCast v226
  let c89_1285 : Index := 89#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2584 : Index := Scalar.indexCast v382
  let c0_1286 : Index := 0#32
  ![0, v2583.toNat, 89, v2584.toNat, 0]
def k0_off2190 (v1 : BitVec 32) (k0_t51 : Fin (k0_t51_loop v1).trips) (v228 : BitVec 32) (v257 : BitVec 32) (k0_t54 : Fin (k0_t54_loop v228 v257).trips) : Fin 5 → Nat :=
  let c0_1287 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2588 : Index := Scalar.indexCast v226
  let c0_i32_406 : BitVec 32 := 0#32
  let c1_i32_408 : BitVec 32 := 1#32
  let arg19 : BitVec 32 := Scf.iv c0_i32_406 c1_i32_408 k0_t54
  let v2589 : Index := Scalar.indexCast arg19
  let c1440 : Index := 1440#32
  let c0_1288 : Index := 0#32
  ![0, v2588.toNat, v2589.toNat, 1440, 0]
def k0_off2191 (v330 : BitVec 32) : Fin 5 → Nat :=
  let c0_1289 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2593 : Index := Scalar.indexCast v347
  let c90 : Index := 90#32
  let c0_1290 : Index := 0#32
  let c0_1291 : Index := 0#32
  ![0, v2593.toNat, 90, 0, 0]
def k0_off2192 (v1 : BitVec 32) (k0_t51 : Fin (k0_t51_loop v1).trips) (v228 : BitVec 32) (v257 : BitVec 32) (k0_t54 : Fin (k0_t54_loop v228 v257).trips) : Fin 5 → Nat :=
  let c0_1294 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2610 : Index := Scalar.indexCast v226
  let c90_1295 : Index := 90#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2611 : Index := Scalar.indexCast v382
  let c0_1296 : Index := 0#32
  ![0, v2610.toNat, 90, v2611.toNat, 0]
def k0_off2193 (v330 : BitVec 32) : Fin 5 → Nat :=
  let c0_1297 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2615 : Index := Scalar.indexCast v347
  let c91 : Index := 91#32
  let c0_1298 : Index := 0#32
  let c0_1299 : Index := 0#32
  ![0, v2615.toNat, 91, 0, 0]
def k0_off2194 (v1 : BitVec 32) (k0_t51 : Fin (k0_t51_loop v1).trips) (v228 : BitVec 32) (v257 : BitVec 32) (k0_t54 : Fin (k0_t54_loop v228 v257).trips) : Fin 5 → Nat :=
  let c0_1302 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2632 : Index := Scalar.indexCast v226
  let c91_1303 : Index := 91#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2633 : Index := Scalar.indexCast v382
  let c0_1304 : Index := 0#32
  ![0, v2632.toNat, 91, v2633.toNat, 0]
def k0_off2195 (v1 : BitVec 32) (k0_t51 : Fin (k0_t51_loop v1).trips) (v228 : BitVec 32) (v257 : BitVec 32) (k0_t54 : Fin (k0_t54_loop v228 v257).trips) : Fin 5 → Nat :=
  let c0_1305 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2637 : Index := Scalar.indexCast v226
  let c0_i32_406 : BitVec 32 := 0#32
  let c1_i32_408 : BitVec 32 := 1#32
  let arg19 : BitVec 32 := Scf.iv c0_i32_406 c1_i32_408 k0_t54
  let v2638 : Index := Scalar.indexCast arg19
  let c1472 : Index := 1472#32
  let c0_1306 : Index := 0#32
  ![0, v2637.toNat, v2638.toNat, 1472, 0]
def k0_off2196 (v330 : BitVec 32) : Fin 5 → Nat :=
  let c0_1307 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2642 : Index := Scalar.indexCast v347
  let c92 : Index := 92#32
  let c0_1308 : Index := 0#32
  let c0_1309 : Index := 0#32
  ![0, v2642.toNat, 92, 0, 0]
def k0_off2197 (v1 : BitVec 32) (k0_t51 : Fin (k0_t51_loop v1).trips) (v228 : BitVec 32) (v257 : BitVec 32) (k0_t54 : Fin (k0_t54_loop v228 v257).trips) : Fin 5 → Nat :=
  let c0_1312 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2659 : Index := Scalar.indexCast v226
  let c92_1313 : Index := 92#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2660 : Index := Scalar.indexCast v382
  let c0_1314 : Index := 0#32
  ![0, v2659.toNat, 92, v2660.toNat, 0]
def k0_off2198 (v330 : BitVec 32) : Fin 5 → Nat :=
  let c0_1315 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2664 : Index := Scalar.indexCast v347
  let c93 : Index := 93#32
  let c0_1316 : Index := 0#32
  let c0_1317 : Index := 0#32
  ![0, v2664.toNat, 93, 0, 0]
def k0_off2199 (v1 : BitVec 32) (k0_t51 : Fin (k0_t51_loop v1).trips) (v228 : BitVec 32) (v257 : BitVec 32) (k0_t54 : Fin (k0_t54_loop v228 v257).trips) : Fin 5 → Nat :=
  let c0_1320 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2681 : Index := Scalar.indexCast v226
  let c93_1321 : Index := 93#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2682 : Index := Scalar.indexCast v382
  let c0_1322 : Index := 0#32
  ![0, v2681.toNat, 93, v2682.toNat, 0]
def k0_off2200 (v1 : BitVec 32) (k0_t51 : Fin (k0_t51_loop v1).trips) (v228 : BitVec 32) (v257 : BitVec 32) (k0_t54 : Fin (k0_t54_loop v228 v257).trips) : Fin 5 → Nat :=
  let c0_1323 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2686 : Index := Scalar.indexCast v226
  let c0_i32_406 : BitVec 32 := 0#32
  let c1_i32_408 : BitVec 32 := 1#32
  let arg19 : BitVec 32 := Scf.iv c0_i32_406 c1_i32_408 k0_t54
  let v2687 : Index := Scalar.indexCast arg19
  let c1504 : Index := 1504#32
  let c0_1324 : Index := 0#32
  ![0, v2686.toNat, v2687.toNat, 1504, 0]
def k0_off2201 (v330 : BitVec 32) : Fin 5 → Nat :=
  let c0_1325 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2691 : Index := Scalar.indexCast v347
  let c94 : Index := 94#32
  let c0_1326 : Index := 0#32
  let c0_1327 : Index := 0#32
  ![0, v2691.toNat, 94, 0, 0]
def k0_off2202 (v1 : BitVec 32) (k0_t51 : Fin (k0_t51_loop v1).trips) (v228 : BitVec 32) (v257 : BitVec 32) (k0_t54 : Fin (k0_t54_loop v228 v257).trips) : Fin 5 → Nat :=
  let c0_1330 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2708 : Index := Scalar.indexCast v226
  let c94_1331 : Index := 94#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2709 : Index := Scalar.indexCast v382
  let c0_1332 : Index := 0#32
  ![0, v2708.toNat, 94, v2709.toNat, 0]
def k0_off2203 (v330 : BitVec 32) : Fin 5 → Nat :=
  let c0_1333 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2713 : Index := Scalar.indexCast v347
  let c95 : Index := 95#32
  let c0_1334 : Index := 0#32
  let c0_1335 : Index := 0#32
  ![0, v2713.toNat, 95, 0, 0]
def k0_off2204 (v1 : BitVec 32) (k0_t51 : Fin (k0_t51_loop v1).trips) (v228 : BitVec 32) (v257 : BitVec 32) (k0_t54 : Fin (k0_t54_loop v228 v257).trips) : Fin 5 → Nat :=
  let c0_1338 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2730 : Index := Scalar.indexCast v226
  let c95_1339 : Index := 95#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2731 : Index := Scalar.indexCast v382
  let c0_1340 : Index := 0#32
  ![0, v2730.toNat, 95, v2731.toNat, 0]
def k0_off2205 (v1 : BitVec 32) (k0_t51 : Fin (k0_t51_loop v1).trips) (v228 : BitVec 32) (v257 : BitVec 32) (k0_t54 : Fin (k0_t54_loop v228 v257).trips) : Fin 5 → Nat :=
  let c0_1341 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2735 : Index := Scalar.indexCast v226
  let c0_i32_406 : BitVec 32 := 0#32
  let c1_i32_408 : BitVec 32 := 1#32
  let arg19 : BitVec 32 := Scf.iv c0_i32_406 c1_i32_408 k0_t54
  let v2736 : Index := Scalar.indexCast arg19
  let c1536 : Index := 1536#32
  let c0_1342 : Index := 0#32
  ![0, v2735.toNat, v2736.toNat, 1536, 0]
def k0_off2206 (v330 : BitVec 32) : Fin 5 → Nat :=
  let c0_1343 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2740 : Index := Scalar.indexCast v347
  let c96_1344 : Index := 96#32
  let c0_1345 : Index := 0#32
  let c0_1346 : Index := 0#32
  ![0, v2740.toNat, 96, 0, 0]
def k0_off2207 (v1 : BitVec 32) (k0_t51 : Fin (k0_t51_loop v1).trips) (v228 : BitVec 32) (v257 : BitVec 32) (k0_t54 : Fin (k0_t54_loop v228 v257).trips) : Fin 5 → Nat :=
  let c0_1349 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2757 : Index := Scalar.indexCast v226
  let c96_1350 : Index := 96#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2758 : Index := Scalar.indexCast v382
  let c0_1351 : Index := 0#32
  ![0, v2757.toNat, 96, v2758.toNat, 0]
def k0_off2208 (v330 : BitVec 32) : Fin 5 → Nat :=
  let c0_1352 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2762 : Index := Scalar.indexCast v347
  let c97 : Index := 97#32
  let c0_1353 : Index := 0#32
  let c0_1354 : Index := 0#32
  ![0, v2762.toNat, 97, 0, 0]
def k0_off2209 (v1 : BitVec 32) (k0_t51 : Fin (k0_t51_loop v1).trips) (v228 : BitVec 32) (v257 : BitVec 32) (k0_t54 : Fin (k0_t54_loop v228 v257).trips) : Fin 5 → Nat :=
  let c0_1357 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2779 : Index := Scalar.indexCast v226
  let c97_1358 : Index := 97#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2780 : Index := Scalar.indexCast v382
  let c0_1359 : Index := 0#32
  ![0, v2779.toNat, 97, v2780.toNat, 0]
def k0_off2210 (v1 : BitVec 32) (k0_t51 : Fin (k0_t51_loop v1).trips) (v228 : BitVec 32) (v257 : BitVec 32) (k0_t54 : Fin (k0_t54_loop v228 v257).trips) : Fin 5 → Nat :=
  let c0_1360 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2784 : Index := Scalar.indexCast v226
  let c0_i32_406 : BitVec 32 := 0#32
  let c1_i32_408 : BitVec 32 := 1#32
  let arg19 : BitVec 32 := Scf.iv c0_i32_406 c1_i32_408 k0_t54
  let v2785 : Index := Scalar.indexCast arg19
  let c1568 : Index := 1568#32
  let c0_1361 : Index := 0#32
  ![0, v2784.toNat, v2785.toNat, 1568, 0]
def k0_off2211 (v330 : BitVec 32) : Fin 5 → Nat :=
  let c0_1362 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2789 : Index := Scalar.indexCast v347
  let c98 : Index := 98#32
  let c0_1363 : Index := 0#32
  let c0_1364 : Index := 0#32
  ![0, v2789.toNat, 98, 0, 0]
def k0_off2212 (v1 : BitVec 32) (k0_t51 : Fin (k0_t51_loop v1).trips) (v228 : BitVec 32) (v257 : BitVec 32) (k0_t54 : Fin (k0_t54_loop v228 v257).trips) : Fin 5 → Nat :=
  let c0_1367 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2806 : Index := Scalar.indexCast v226
  let c98_1368 : Index := 98#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2807 : Index := Scalar.indexCast v382
  let c0_1369 : Index := 0#32
  ![0, v2806.toNat, 98, v2807.toNat, 0]
def k0_off2213 (v330 : BitVec 32) : Fin 5 → Nat :=
  let c0_1370 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2811 : Index := Scalar.indexCast v347
  let c99 : Index := 99#32
  let c0_1371 : Index := 0#32
  let c0_1372 : Index := 0#32
  ![0, v2811.toNat, 99, 0, 0]
def k0_off2214 (v1 : BitVec 32) (k0_t51 : Fin (k0_t51_loop v1).trips) (v228 : BitVec 32) (v257 : BitVec 32) (k0_t54 : Fin (k0_t54_loop v228 v257).trips) : Fin 5 → Nat :=
  let c0_1375 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2828 : Index := Scalar.indexCast v226
  let c99_1376 : Index := 99#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2829 : Index := Scalar.indexCast v382
  let c0_1377 : Index := 0#32
  ![0, v2828.toNat, 99, v2829.toNat, 0]
def k0_off2215 (v1 : BitVec 32) (k0_t51 : Fin (k0_t51_loop v1).trips) (v228 : BitVec 32) (v257 : BitVec 32) (k0_t54 : Fin (k0_t54_loop v228 v257).trips) : Fin 5 → Nat :=
  let c0_1378 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2833 : Index := Scalar.indexCast v226
  let c0_i32_406 : BitVec 32 := 0#32
  let c1_i32_408 : BitVec 32 := 1#32
  let arg19 : BitVec 32 := Scf.iv c0_i32_406 c1_i32_408 k0_t54
  let v2834 : Index := Scalar.indexCast arg19
  let c1600 : Index := 1600#32
  let c0_1379 : Index := 0#32
  ![0, v2833.toNat, v2834.toNat, 1600, 0]
def k0_off2216 (v330 : BitVec 32) : Fin 5 → Nat :=
  let c0_1380 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2838 : Index := Scalar.indexCast v347
  let c100 : Index := 100#32
  let c0_1381 : Index := 0#32
  let c0_1382 : Index := 0#32
  ![0, v2838.toNat, 100, 0, 0]
def k0_off2217 (v1 : BitVec 32) (k0_t51 : Fin (k0_t51_loop v1).trips) (v228 : BitVec 32) (v257 : BitVec 32) (k0_t54 : Fin (k0_t54_loop v228 v257).trips) : Fin 5 → Nat :=
  let c0_1385 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2855 : Index := Scalar.indexCast v226
  let c100_1386 : Index := 100#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2856 : Index := Scalar.indexCast v382
  let c0_1387 : Index := 0#32
  ![0, v2855.toNat, 100, v2856.toNat, 0]
def k0_off2218 (v330 : BitVec 32) : Fin 5 → Nat :=
  let c0_1388 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2860 : Index := Scalar.indexCast v347
  let c101 : Index := 101#32
  let c0_1389 : Index := 0#32
  let c0_1390 : Index := 0#32
  ![0, v2860.toNat, 101, 0, 0]
def k0_off2219 (v1 : BitVec 32) (k0_t51 : Fin (k0_t51_loop v1).trips) (v228 : BitVec 32) (v257 : BitVec 32) (k0_t54 : Fin (k0_t54_loop v228 v257).trips) : Fin 5 → Nat :=
  let c0_1393 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2877 : Index := Scalar.indexCast v226
  let c101_1394 : Index := 101#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2878 : Index := Scalar.indexCast v382
  let c0_1395 : Index := 0#32
  ![0, v2877.toNat, 101, v2878.toNat, 0]
def k0_off2220 (v1 : BitVec 32) (k0_t51 : Fin (k0_t51_loop v1).trips) (v228 : BitVec 32) (v257 : BitVec 32) (k0_t54 : Fin (k0_t54_loop v228 v257).trips) : Fin 5 → Nat :=
  let c0_1396 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2882 : Index := Scalar.indexCast v226
  let c0_i32_406 : BitVec 32 := 0#32
  let c1_i32_408 : BitVec 32 := 1#32
  let arg19 : BitVec 32 := Scf.iv c0_i32_406 c1_i32_408 k0_t54
  let v2883 : Index := Scalar.indexCast arg19
  let c1632 : Index := 1632#32
  let c0_1397 : Index := 0#32
  ![0, v2882.toNat, v2883.toNat, 1632, 0]
def k0_off2221 (v330 : BitVec 32) : Fin 5 → Nat :=
  let c0_1398 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2887 : Index := Scalar.indexCast v347
  let c102 : Index := 102#32
  let c0_1399 : Index := 0#32
  let c0_1400 : Index := 0#32
  ![0, v2887.toNat, 102, 0, 0]
def k0_off2222 (v1 : BitVec 32) (k0_t51 : Fin (k0_t51_loop v1).trips) (v228 : BitVec 32) (v257 : BitVec 32) (k0_t54 : Fin (k0_t54_loop v228 v257).trips) : Fin 5 → Nat :=
  let c0_1403 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2904 : Index := Scalar.indexCast v226
  let c102_1404 : Index := 102#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2905 : Index := Scalar.indexCast v382
  let c0_1405 : Index := 0#32
  ![0, v2904.toNat, 102, v2905.toNat, 0]
def k0_off2223 (v330 : BitVec 32) : Fin 5 → Nat :=
  let c0_1406 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2909 : Index := Scalar.indexCast v347
  let c103 : Index := 103#32
  let c0_1407 : Index := 0#32
  let c0_1408 : Index := 0#32
  ![0, v2909.toNat, 103, 0, 0]
def k0_off2224 (v1 : BitVec 32) (k0_t51 : Fin (k0_t51_loop v1).trips) (v228 : BitVec 32) (v257 : BitVec 32) (k0_t54 : Fin (k0_t54_loop v228 v257).trips) : Fin 5 → Nat :=
  let c0_1411 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2926 : Index := Scalar.indexCast v226
  let c103_1412 : Index := 103#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2927 : Index := Scalar.indexCast v382
  let c0_1413 : Index := 0#32
  ![0, v2926.toNat, 103, v2927.toNat, 0]
def k0_off2225 (v1 : BitVec 32) (k0_t51 : Fin (k0_t51_loop v1).trips) (v228 : BitVec 32) (v257 : BitVec 32) (k0_t54 : Fin (k0_t54_loop v228 v257).trips) : Fin 5 → Nat :=
  let c0_1414 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2931 : Index := Scalar.indexCast v226
  let c0_i32_406 : BitVec 32 := 0#32
  let c1_i32_408 : BitVec 32 := 1#32
  let arg19 : BitVec 32 := Scf.iv c0_i32_406 c1_i32_408 k0_t54
  let v2932 : Index := Scalar.indexCast arg19
  let c1664 : Index := 1664#32
  let c0_1415 : Index := 0#32
  ![0, v2931.toNat, v2932.toNat, 1664, 0]
def k0_off2226 (v330 : BitVec 32) : Fin 5 → Nat :=
  let c0_1416 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2936 : Index := Scalar.indexCast v347
  let c104 : Index := 104#32
  let c0_1417 : Index := 0#32
  let c0_1418 : Index := 0#32
  ![0, v2936.toNat, 104, 0, 0]
def k0_off2227 (v1 : BitVec 32) (k0_t51 : Fin (k0_t51_loop v1).trips) (v228 : BitVec 32) (v257 : BitVec 32) (k0_t54 : Fin (k0_t54_loop v228 v257).trips) : Fin 5 → Nat :=
  let c0_1421 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2953 : Index := Scalar.indexCast v226
  let c104_1422 : Index := 104#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2954 : Index := Scalar.indexCast v382
  let c0_1423 : Index := 0#32
  ![0, v2953.toNat, 104, v2954.toNat, 0]
def k0_off2228 (v330 : BitVec 32) : Fin 5 → Nat :=
  let c0_1424 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2958 : Index := Scalar.indexCast v347
  let c105 : Index := 105#32
  let c0_1425 : Index := 0#32
  let c0_1426 : Index := 0#32
  ![0, v2958.toNat, 105, 0, 0]
def k0_off2229 (v1 : BitVec 32) (k0_t51 : Fin (k0_t51_loop v1).trips) (v228 : BitVec 32) (v257 : BitVec 32) (k0_t54 : Fin (k0_t54_loop v228 v257).trips) : Fin 5 → Nat :=
  let c0_1429 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2975 : Index := Scalar.indexCast v226
  let c105_1430 : Index := 105#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v2976 : Index := Scalar.indexCast v382
  let c0_1431 : Index := 0#32
  ![0, v2975.toNat, 105, v2976.toNat, 0]
def k0_off2230 (v1 : BitVec 32) (k0_t51 : Fin (k0_t51_loop v1).trips) (v228 : BitVec 32) (v257 : BitVec 32) (k0_t54 : Fin (k0_t54_loop v228 v257).trips) : Fin 5 → Nat :=
  let c0_1432 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2980 : Index := Scalar.indexCast v226
  let c0_i32_406 : BitVec 32 := 0#32
  let c1_i32_408 : BitVec 32 := 1#32
  let arg19 : BitVec 32 := Scf.iv c0_i32_406 c1_i32_408 k0_t54
  let v2981 : Index := Scalar.indexCast arg19
  let c1696 : Index := 1696#32
  let c0_1433 : Index := 0#32
  ![0, v2980.toNat, v2981.toNat, 1696, 0]
def k0_off2231 (v330 : BitVec 32) : Fin 5 → Nat :=
  let c0_1434 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2985 : Index := Scalar.indexCast v347
  let c106 : Index := 106#32
  let c0_1435 : Index := 0#32
  let c0_1436 : Index := 0#32
  ![0, v2985.toNat, 106, 0, 0]
def k0_off2232 (v1 : BitVec 32) (k0_t51 : Fin (k0_t51_loop v1).trips) (v228 : BitVec 32) (v257 : BitVec 32) (k0_t54 : Fin (k0_t54_loop v228 v257).trips) : Fin 5 → Nat :=
  let c0_1439 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v3002 : Index := Scalar.indexCast v226
  let c106_1440 : Index := 106#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v3003 : Index := Scalar.indexCast v382
  let c0_1441 : Index := 0#32
  ![0, v3002.toNat, 106, v3003.toNat, 0]
def k0_off2233 (v330 : BitVec 32) : Fin 5 → Nat :=
  let c0_1442 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v3007 : Index := Scalar.indexCast v347
  let c107 : Index := 107#32
  let c0_1443 : Index := 0#32
  let c0_1444 : Index := 0#32
  ![0, v3007.toNat, 107, 0, 0]

def k0_chk36_0 (v330 : BitVec 32) : Prop :=
  (∀ a, (k0_off1966 v330) a + S1x1x1x8x128.size a ≤ S2x10x108x8x128.size a) ∧
  (∀ a, (k0_off1968 v330) a + S1x1x1x8x128.size a ≤ S2x10x108x8x128.size a) ∧
  (∀ a, (k0_off1971 v330) a + S1x1x1x8x128.size a ≤ S2x10x108x8x128.size a) ∧
  (∀ a, (k0_off1973 v330) a + S1x1x1x8x128.size a ≤ S2x10x108x8x128.size a) ∧
  (∀ a, (k0_off1976 v330) a + S1x1x1x8x128.size a ≤ S2x10x108x8x128.size a) ∧
  (∀ a, (k0_off1978 v330) a + S1x1x1x8x128.size a ≤ S2x10x108x8x128.size a) ∧
  (∀ a, (k0_off1981 v330) a + S1x1x1x8x128.size a ≤ S2x10x108x8x128.size a) ∧
  (∀ a, (k0_off1983 v330) a + S1x1x1x8x128.size a ≤ S2x10x108x8x128.size a) ∧
  (∀ a, (k0_off1986 v330) a + S1x1x1x8x128.size a ≤ S2x10x108x8x128.size a) ∧
  (∀ a, (k0_off1988 v330) a + S1x1x1x8x128.size a ≤ S2x10x108x8x128.size a) ∧
  (∀ a, (k0_off1991 v330) a + S1x1x1x8x128.size a ≤ S2x10x108x8x128.size a) ∧
  (∀ a, (k0_off1993 v330) a + S1x1x1x8x128.size a ≤ S2x10x108x8x128.size a) ∧
  (∀ a, (k0_off1996 v330) a + S1x1x1x8x128.size a ≤ S2x10x108x8x128.size a) ∧
  (∀ a, (k0_off1998 v330) a + S1x1x1x8x128.size a ≤ S2x10x108x8x128.size a) ∧
  (∀ a, (k0_off2001 v330) a + S1x1x1x8x128.size a ≤ S2x10x108x8x128.size a) ∧
  (∀ a, (k0_off2003 v330) a + S1x1x1x8x128.size a ≤ S2x10x108x8x128.size a) ∧
  (∀ a, (k0_off2006 v330) a + S1x1x1x8x128.size a ≤ S2x10x108x8x128.size a) ∧
  (∀ a, (k0_off2008 v330) a + S1x1x1x8x128.size a ≤ S2x10x108x8x128.size a) ∧
  (∀ a, (k0_off2011 v330) a + S1x1x1x8x128.size a ≤ S2x10x108x8x128.size a) ∧
  (∀ a, (k0_off2013 v330) a + S1x1x1x8x128.size a ≤ S2x10x108x8x128.size a) ∧
  (∀ a, (k0_off2016 v330) a + S1x1x1x8x128.size a ≤ S2x10x108x8x128.size a) ∧
  (∀ a, (k0_off2018 v330) a + S1x1x1x8x128.size a ≤ S2x10x108x8x128.size a) ∧
  (∀ a, (k0_off2021 v330) a + S1x1x1x8x128.size a ≤ S2x10x108x8x128.size a) ∧
  (∀ a, (k0_off2023 v330) a + S1x1x1x8x128.size a ≤ S2x10x108x8x128.size a) ∧
  (∀ a, (k0_off2026 v330) a + S1x1x1x8x128.size a ≤ S2x10x108x8x128.size a) ∧
  (∀ a, (k0_off2028 v330) a + S1x1x1x8x128.size a ≤ S2x10x108x8x128.size a) ∧
  (∀ a, (k0_off2031 v330) a + S1x1x1x8x128.size a ≤ S2x10x108x8x128.size a) ∧
  (∀ a, (k0_off2033 v330) a + S1x1x1x8x128.size a ≤ S2x10x108x8x128.size a) ∧
  (∀ a, (k0_off2036 v330) a + S1x1x1x8x128.size a ≤ S2x10x108x8x128.size a) ∧
  (∀ a, (k0_off2038 v330) a + S1x1x1x8x128.size a ≤ S2x10x108x8x128.size a) ∧
  (∀ a, (k0_off2041 v330) a + S1x1x1x8x128.size a ≤ S2x10x108x8x128.size a) ∧
  (∀ a, (k0_off2043 v330) a + S1x1x1x8x128.size a ≤ S2x10x108x8x128.size a)
def k0_chk36_1 (v330 : BitVec 32) : Prop :=
  (∀ a, (k0_off2046 v330) a + S1x1x1x8x128.size a ≤ S2x10x108x8x128.size a) ∧
  (∀ a, (k0_off2048 v330) a + S1x1x1x8x128.size a ≤ S2x10x108x8x128.size a) ∧
  (∀ a, (k0_off2051 v330) a + S1x1x1x8x128.size a ≤ S2x10x108x8x128.size a) ∧
  (∀ a, (k0_off2053 v330) a + S1x1x1x8x128.size a ≤ S2x10x108x8x128.size a) ∧
  (∀ a, (k0_off2056 v330) a + S1x1x1x8x128.size a ≤ S2x10x108x8x128.size a) ∧
  (∀ a, (k0_off2058 v330) a + S1x1x1x8x128.size a ≤ S2x10x108x8x128.size a) ∧
  (∀ a, (k0_off2061 v330) a + S1x1x1x8x128.size a ≤ S2x10x108x8x128.size a) ∧
  (∀ a, (k0_off2063 v330) a + S1x1x1x8x128.size a ≤ S2x10x108x8x128.size a) ∧
  (∀ a, (k0_off2066 v330) a + S1x1x1x8x128.size a ≤ S2x10x108x8x128.size a) ∧
  (∀ a, (k0_off2068 v330) a + S1x1x1x8x128.size a ≤ S2x10x108x8x128.size a) ∧
  (∀ a, (k0_off2071 v330) a + S1x1x1x8x128.size a ≤ S2x10x108x8x128.size a) ∧
  (∀ a, (k0_off2073 v330) a + S1x1x1x8x128.size a ≤ S2x10x108x8x128.size a) ∧
  (∀ a, (k0_off2076 v330) a + S1x1x1x8x128.size a ≤ S2x10x108x8x128.size a) ∧
  (∀ a, (k0_off2078 v330) a + S1x1x1x8x128.size a ≤ S2x10x108x8x128.size a) ∧
  (∀ a, (k0_off2081 v330) a + S1x1x1x8x128.size a ≤ S2x10x108x8x128.size a) ∧
  (∀ a, (k0_off2083 v330) a + S1x1x1x8x128.size a ≤ S2x10x108x8x128.size a) ∧
  (∀ a, (k0_off2086 v330) a + S1x1x1x8x128.size a ≤ S2x10x108x8x128.size a) ∧
  (∀ a, (k0_off2088 v330) a + S1x1x1x8x128.size a ≤ S2x10x108x8x128.size a) ∧
  (∀ a, (k0_off2091 v330) a + S1x1x1x8x128.size a ≤ S2x10x108x8x128.size a) ∧
  (∀ a, (k0_off2093 v330) a + S1x1x1x8x128.size a ≤ S2x10x108x8x128.size a) ∧
  (∀ a, (k0_off2096 v330) a + S1x1x1x8x128.size a ≤ S2x10x108x8x128.size a) ∧
  (∀ a, (k0_off2098 v330) a + S1x1x1x8x128.size a ≤ S2x10x108x8x128.size a) ∧
  (∀ a, (k0_off2101 v330) a + S1x1x1x8x128.size a ≤ S2x10x108x8x128.size a) ∧
  (∀ a, (k0_off2103 v330) a + S1x1x1x8x128.size a ≤ S2x10x108x8x128.size a) ∧
  (∀ a, (k0_off2106 v330) a + S1x1x1x8x128.size a ≤ S2x10x108x8x128.size a) ∧
  (∀ a, (k0_off2108 v330) a + S1x1x1x8x128.size a ≤ S2x10x108x8x128.size a) ∧
  (∀ a, (k0_off2111 v330) a + S1x1x1x8x128.size a ≤ S2x10x108x8x128.size a) ∧
  (∀ a, (k0_off2113 v330) a + S1x1x1x8x128.size a ≤ S2x10x108x8x128.size a) ∧
  (∀ a, (k0_off2116 v330) a + S1x1x1x8x128.size a ≤ S2x10x108x8x128.size a) ∧
  (∀ a, (k0_off2118 v330) a + S1x1x1x8x128.size a ≤ S2x10x108x8x128.size a) ∧
  (∀ a, (k0_off2121 v330) a + S1x1x1x8x128.size a ≤ S2x10x108x8x128.size a) ∧
  (∀ a, (k0_off2123 v330) a + S1x1x1x8x128.size a ≤ S2x10x108x8x128.size a)
def k0_chk36_2 (v330 : BitVec 32) : Prop :=
  (∀ a, (k0_off2126 v330) a + S1x1x1x8x128.size a ≤ S2x10x108x8x128.size a) ∧
  (∀ a, (k0_off2128 v330) a + S1x1x1x8x128.size a ≤ S2x10x108x8x128.size a) ∧
  (∀ a, (k0_off2131 v330) a + S1x1x1x8x128.size a ≤ S2x10x108x8x128.size a) ∧
  (∀ a, (k0_off2133 v330) a + S1x1x1x8x128.size a ≤ S2x10x108x8x128.size a) ∧
  (∀ a, (k0_off2136 v330) a + S1x1x1x8x128.size a ≤ S2x10x108x8x128.size a) ∧
  (∀ a, (k0_off2138 v330) a + S1x1x1x8x128.size a ≤ S2x10x108x8x128.size a) ∧
  (∀ a, (k0_off2141 v330) a + S1x1x1x8x128.size a ≤ S2x10x108x8x128.size a) ∧
  (∀ a, (k0_off2143 v330) a + S1x1x1x8x128.size a ≤ S2x10x108x8x128.size a) ∧
  (∀ a, (k0_off2146 v330) a + S1x1x1x8x128.size a ≤ S2x10x108x8x128.size a) ∧
  (∀ a, (k0_off2148 v330) a + S1x1x1x8x128.size a ≤ S2x10x108x8x128.size a) ∧
  (∀ a, (k0_off2151 v330) a + S1x1x1x8x128.size a ≤ S2x10x108x8x128.size a) ∧
  (∀ a, (k0_off2153 v330) a + S1x1x1x8x128.size a ≤ S2x10x108x8x128.size a) ∧
  (∀ a, (k0_off2156 v330) a + S1x1x1x8x128.size a ≤ S2x10x108x8x128.size a) ∧
  (∀ a, (k0_off2158 v330) a + S1x1x1x8x128.size a ≤ S2x10x108x8x128.size a) ∧
  (∀ a, (k0_off2161 v330) a + S1x1x1x8x128.size a ≤ S2x10x108x8x128.size a) ∧
  (∀ a, (k0_off2163 v330) a + S1x1x1x8x128.size a ≤ S2x10x108x8x128.size a) ∧
  (∀ a, (k0_off2166 v330) a + S1x1x1x8x128.size a ≤ S2x10x108x8x128.size a) ∧
  (∀ a, (k0_off2168 v330) a + S1x1x1x8x128.size a ≤ S2x10x108x8x128.size a) ∧
  (∀ a, (k0_off2171 v330) a + S1x1x1x8x128.size a ≤ S2x10x108x8x128.size a) ∧
  (∀ a, (k0_off2173 v330) a + S1x1x1x8x128.size a ≤ S2x10x108x8x128.size a) ∧
  (∀ a, (k0_off2176 v330) a + S1x1x1x8x128.size a ≤ S2x10x108x8x128.size a) ∧
  (∀ a, (k0_off2178 v330) a + S1x1x1x8x128.size a ≤ S2x10x108x8x128.size a) ∧
  (∀ a, (k0_off2181 v330) a + S1x1x1x8x128.size a ≤ S2x10x108x8x128.size a) ∧
  (∀ a, (k0_off2183 v330) a + S1x1x1x8x128.size a ≤ S2x10x108x8x128.size a) ∧
  (∀ a, (k0_off2186 v330) a + S1x1x1x8x128.size a ≤ S2x10x108x8x128.size a) ∧
  (∀ a, (k0_off2188 v330) a + S1x1x1x8x128.size a ≤ S2x10x108x8x128.size a) ∧
  (∀ a, (k0_off2191 v330) a + S1x1x1x8x128.size a ≤ S2x10x108x8x128.size a) ∧
  (∀ a, (k0_off2193 v330) a + S1x1x1x8x128.size a ≤ S2x10x108x8x128.size a) ∧
  (∀ a, (k0_off2196 v330) a + S1x1x1x8x128.size a ≤ S2x10x108x8x128.size a) ∧
  (∀ a, (k0_off2198 v330) a + S1x1x1x8x128.size a ≤ S2x10x108x8x128.size a) ∧
  (∀ a, (k0_off2201 v330) a + S1x1x1x8x128.size a ≤ S2x10x108x8x128.size a) ∧
  (∀ a, (k0_off2203 v330) a + S1x1x1x8x128.size a ≤ S2x10x108x8x128.size a)
def k0_chk36_3 (v330 : BitVec 32) : Prop :=
  (∀ a, (k0_off2206 v330) a + S1x1x1x8x128.size a ≤ S2x10x108x8x128.size a) ∧
  (∀ a, (k0_off2208 v330) a + S1x1x1x8x128.size a ≤ S2x10x108x8x128.size a) ∧
  (∀ a, (k0_off2211 v330) a + S1x1x1x8x128.size a ≤ S2x10x108x8x128.size a) ∧
  (∀ a, (k0_off2213 v330) a + S1x1x1x8x128.size a ≤ S2x10x108x8x128.size a) ∧
  (∀ a, (k0_off2216 v330) a + S1x1x1x8x128.size a ≤ S2x10x108x8x128.size a) ∧
  (∀ a, (k0_off2218 v330) a + S1x1x1x8x128.size a ≤ S2x10x108x8x128.size a) ∧
  (∀ a, (k0_off2221 v330) a + S1x1x1x8x128.size a ≤ S2x10x108x8x128.size a) ∧
  (∀ a, (k0_off2223 v330) a + S1x1x1x8x128.size a ≤ S2x10x108x8x128.size a) ∧
  (∀ a, (k0_off2226 v330) a + S1x1x1x8x128.size a ≤ S2x10x108x8x128.size a) ∧
  (∀ a, (k0_off2228 v330) a + S1x1x1x8x128.size a ≤ S2x10x108x8x128.size a) ∧
  (∀ a, (k0_off2231 v330) a + S1x1x1x8x128.size a ≤ S2x10x108x8x128.size a) ∧
  (∀ a, (k0_off2233 v330) a + S1x1x1x8x128.size a ≤ S2x10x108x8x128.size a)
def k0_chk36 (v330 : BitVec 32) : Prop :=
  k0_chk36_0 v330 ∧
  k0_chk36_1 v330 ∧
  k0_chk36_2 v330 ∧
  k0_chk36_3 v330
theorem k0_off1966_inb : ∀ (v330 : BitVec 32) (k0_hw36 : k0_chk36 v330), ∀ a, (k0_off1966 v330) a + S1x1x1x8x128.size a ≤ S2x10x108x8x128.size a := fun v330 k0_hw36 => k0_hw36.1.1
theorem k0_off1968_inb : ∀ (v330 : BitVec 32) (k0_hw36 : k0_chk36 v330), ∀ a, (k0_off1968 v330) a + S1x1x1x8x128.size a ≤ S2x10x108x8x128.size a := fun v330 k0_hw36 => k0_hw36.1.2.1
theorem k0_off1971_inb : ∀ (v330 : BitVec 32) (k0_hw36 : k0_chk36 v330), ∀ a, (k0_off1971 v330) a + S1x1x1x8x128.size a ≤ S2x10x108x8x128.size a := fun v330 k0_hw36 => k0_hw36.1.2.2.1
theorem k0_off1973_inb : ∀ (v330 : BitVec 32) (k0_hw36 : k0_chk36 v330), ∀ a, (k0_off1973 v330) a + S1x1x1x8x128.size a ≤ S2x10x108x8x128.size a := fun v330 k0_hw36 => k0_hw36.1.2.2.2.1
theorem k0_off1976_inb : ∀ (v330 : BitVec 32) (k0_hw36 : k0_chk36 v330), ∀ a, (k0_off1976 v330) a + S1x1x1x8x128.size a ≤ S2x10x108x8x128.size a := fun v330 k0_hw36 => k0_hw36.1.2.2.2.2.1
theorem k0_off1978_inb : ∀ (v330 : BitVec 32) (k0_hw36 : k0_chk36 v330), ∀ a, (k0_off1978 v330) a + S1x1x1x8x128.size a ≤ S2x10x108x8x128.size a := fun v330 k0_hw36 => k0_hw36.1.2.2.2.2.2.1
theorem k0_off1981_inb : ∀ (v330 : BitVec 32) (k0_hw36 : k0_chk36 v330), ∀ a, (k0_off1981 v330) a + S1x1x1x8x128.size a ≤ S2x10x108x8x128.size a := fun v330 k0_hw36 => k0_hw36.1.2.2.2.2.2.2.1
theorem k0_off1983_inb : ∀ (v330 : BitVec 32) (k0_hw36 : k0_chk36 v330), ∀ a, (k0_off1983 v330) a + S1x1x1x8x128.size a ≤ S2x10x108x8x128.size a := fun v330 k0_hw36 => k0_hw36.1.2.2.2.2.2.2.2.1
theorem k0_off1986_inb : ∀ (v330 : BitVec 32) (k0_hw36 : k0_chk36 v330), ∀ a, (k0_off1986 v330) a + S1x1x1x8x128.size a ≤ S2x10x108x8x128.size a := fun v330 k0_hw36 => k0_hw36.1.2.2.2.2.2.2.2.2.1
theorem k0_off1988_inb : ∀ (v330 : BitVec 32) (k0_hw36 : k0_chk36 v330), ∀ a, (k0_off1988 v330) a + S1x1x1x8x128.size a ≤ S2x10x108x8x128.size a := fun v330 k0_hw36 => k0_hw36.1.2.2.2.2.2.2.2.2.2.1
theorem k0_off1991_inb : ∀ (v330 : BitVec 32) (k0_hw36 : k0_chk36 v330), ∀ a, (k0_off1991 v330) a + S1x1x1x8x128.size a ≤ S2x10x108x8x128.size a := fun v330 k0_hw36 => k0_hw36.1.2.2.2.2.2.2.2.2.2.2.1
theorem k0_off1993_inb : ∀ (v330 : BitVec 32) (k0_hw36 : k0_chk36 v330), ∀ a, (k0_off1993 v330) a + S1x1x1x8x128.size a ≤ S2x10x108x8x128.size a := fun v330 k0_hw36 => k0_hw36.1.2.2.2.2.2.2.2.2.2.2.2.1
theorem k0_off1996_inb : ∀ (v330 : BitVec 32) (k0_hw36 : k0_chk36 v330), ∀ a, (k0_off1996 v330) a + S1x1x1x8x128.size a ≤ S2x10x108x8x128.size a := fun v330 k0_hw36 => k0_hw36.1.2.2.2.2.2.2.2.2.2.2.2.2.1
theorem k0_off1998_inb : ∀ (v330 : BitVec 32) (k0_hw36 : k0_chk36 v330), ∀ a, (k0_off1998 v330) a + S1x1x1x8x128.size a ≤ S2x10x108x8x128.size a := fun v330 k0_hw36 => k0_hw36.1.2.2.2.2.2.2.2.2.2.2.2.2.2.1
theorem k0_off2001_inb : ∀ (v330 : BitVec 32) (k0_hw36 : k0_chk36 v330), ∀ a, (k0_off2001 v330) a + S1x1x1x8x128.size a ≤ S2x10x108x8x128.size a := fun v330 k0_hw36 => k0_hw36.1.2.2.2.2.2.2.2.2.2.2.2.2.2.2.1
theorem k0_off2003_inb : ∀ (v330 : BitVec 32) (k0_hw36 : k0_chk36 v330), ∀ a, (k0_off2003 v330) a + S1x1x1x8x128.size a ≤ S2x10x108x8x128.size a := fun v330 k0_hw36 => k0_hw36.1.2.2.2.2.2.2.2.2.2.2.2.2.2.2.2.1
theorem k0_off2006_inb : ∀ (v330 : BitVec 32) (k0_hw36 : k0_chk36 v330), ∀ a, (k0_off2006 v330) a + S1x1x1x8x128.size a ≤ S2x10x108x8x128.size a := fun v330 k0_hw36 => k0_hw36.1.2.2.2.2.2.2.2.2.2.2.2.2.2.2.2.2.1
theorem k0_off2008_inb : ∀ (v330 : BitVec 32) (k0_hw36 : k0_chk36 v330), ∀ a, (k0_off2008 v330) a + S1x1x1x8x128.size a ≤ S2x10x108x8x128.size a := fun v330 k0_hw36 => k0_hw36.1.2.2.2.2.2.2.2.2.2.2.2.2.2.2.2.2.2.1
theorem k0_off2011_inb : ∀ (v330 : BitVec 32) (k0_hw36 : k0_chk36 v330), ∀ a, (k0_off2011 v330) a + S1x1x1x8x128.size a ≤ S2x10x108x8x128.size a := fun v330 k0_hw36 => k0_hw36.1.2.2.2.2.2.2.2.2.2.2.2.2.2.2.2.2.2.2.1
theorem k0_off2013_inb : ∀ (v330 : BitVec 32) (k0_hw36 : k0_chk36 v330), ∀ a, (k0_off2013 v330) a + S1x1x1x8x128.size a ≤ S2x10x108x8x128.size a := fun v330 k0_hw36 => k0_hw36.1.2.2.2.2.2.2.2.2.2.2.2.2.2.2.2.2.2.2.2.1
theorem k0_off2016_inb : ∀ (v330 : BitVec 32) (k0_hw36 : k0_chk36 v330), ∀ a, (k0_off2016 v330) a + S1x1x1x8x128.size a ≤ S2x10x108x8x128.size a := fun v330 k0_hw36 => k0_hw36.1.2.2.2.2.2.2.2.2.2.2.2.2.2.2.2.2.2.2.2.2.1
theorem k0_off2018_inb : ∀ (v330 : BitVec 32) (k0_hw36 : k0_chk36 v330), ∀ a, (k0_off2018 v330) a + S1x1x1x8x128.size a ≤ S2x10x108x8x128.size a := fun v330 k0_hw36 => k0_hw36.1.2.2.2.2.2.2.2.2.2.2.2.2.2.2.2.2.2.2.2.2.2.1
theorem k0_off2021_inb : ∀ (v330 : BitVec 32) (k0_hw36 : k0_chk36 v330), ∀ a, (k0_off2021 v330) a + S1x1x1x8x128.size a ≤ S2x10x108x8x128.size a := fun v330 k0_hw36 => k0_hw36.1.2.2.2.2.2.2.2.2.2.2.2.2.2.2.2.2.2.2.2.2.2.2.1
theorem k0_off2023_inb : ∀ (v330 : BitVec 32) (k0_hw36 : k0_chk36 v330), ∀ a, (k0_off2023 v330) a + S1x1x1x8x128.size a ≤ S2x10x108x8x128.size a := fun v330 k0_hw36 => k0_hw36.1.2.2.2.2.2.2.2.2.2.2.2.2.2.2.2.2.2.2.2.2.2.2.2.1
theorem k0_off2026_inb : ∀ (v330 : BitVec 32) (k0_hw36 : k0_chk36 v330), ∀ a, (k0_off2026 v330) a + S1x1x1x8x128.size a ≤ S2x10x108x8x128.size a := fun v330 k0_hw36 => k0_hw36.1.2.2.2.2.2.2.2.2.2.2.2.2.2.2.2.2.2.2.2.2.2.2.2.2.1
theorem k0_off2028_inb : ∀ (v330 : BitVec 32) (k0_hw36 : k0_chk36 v330), ∀ a, (k0_off2028 v330) a + S1x1x1x8x128.size a ≤ S2x10x108x8x128.size a := fun v330 k0_hw36 => k0_hw36.1.2.2.2.2.2.2.2.2.2.2.2.2.2.2.2.2.2.2.2.2.2.2.2.2.2.1
theorem k0_off2031_inb : ∀ (v330 : BitVec 32) (k0_hw36 : k0_chk36 v330), ∀ a, (k0_off2031 v330) a + S1x1x1x8x128.size a ≤ S2x10x108x8x128.size a := fun v330 k0_hw36 => k0_hw36.1.2.2.2.2.2.2.2.2.2.2.2.2.2.2.2.2.2.2.2.2.2.2.2.2.2.2.1
theorem k0_off2033_inb : ∀ (v330 : BitVec 32) (k0_hw36 : k0_chk36 v330), ∀ a, (k0_off2033 v330) a + S1x1x1x8x128.size a ≤ S2x10x108x8x128.size a := fun v330 k0_hw36 => k0_hw36.1.2.2.2.2.2.2.2.2.2.2.2.2.2.2.2.2.2.2.2.2.2.2.2.2.2.2.2.1
theorem k0_off2036_inb : ∀ (v330 : BitVec 32) (k0_hw36 : k0_chk36 v330), ∀ a, (k0_off2036 v330) a + S1x1x1x8x128.size a ≤ S2x10x108x8x128.size a := fun v330 k0_hw36 => k0_hw36.1.2.2.2.2.2.2.2.2.2.2.2.2.2.2.2.2.2.2.2.2.2.2.2.2.2.2.2.2.1
theorem k0_off2038_inb : ∀ (v330 : BitVec 32) (k0_hw36 : k0_chk36 v330), ∀ a, (k0_off2038 v330) a + S1x1x1x8x128.size a ≤ S2x10x108x8x128.size a := fun v330 k0_hw36 => k0_hw36.1.2.2.2.2.2.2.2.2.2.2.2.2.2.2.2.2.2.2.2.2.2.2.2.2.2.2.2.2.2.1
theorem k0_off2041_inb : ∀ (v330 : BitVec 32) (k0_hw36 : k0_chk36 v330), ∀ a, (k0_off2041 v330) a + S1x1x1x8x128.size a ≤ S2x10x108x8x128.size a := fun v330 k0_hw36 => k0_hw36.1.2.2.2.2.2.2.2.2.2.2.2.2.2.2.2.2.2.2.2.2.2.2.2.2.2.2.2.2.2.2.1
theorem k0_off2043_inb : ∀ (v330 : BitVec 32) (k0_hw36 : k0_chk36 v330), ∀ a, (k0_off2043 v330) a + S1x1x1x8x128.size a ≤ S2x10x108x8x128.size a := fun v330 k0_hw36 => k0_hw36.1.2.2.2.2.2.2.2.2.2.2.2.2.2.2.2.2.2.2.2.2.2.2.2.2.2.2.2.2.2.2.2
theorem k0_off2046_inb : ∀ (v330 : BitVec 32) (k0_hw36 : k0_chk36 v330), ∀ a, (k0_off2046 v330) a + S1x1x1x8x128.size a ≤ S2x10x108x8x128.size a := fun v330 k0_hw36 => k0_hw36.2.1.1
theorem k0_off2048_inb : ∀ (v330 : BitVec 32) (k0_hw36 : k0_chk36 v330), ∀ a, (k0_off2048 v330) a + S1x1x1x8x128.size a ≤ S2x10x108x8x128.size a := fun v330 k0_hw36 => k0_hw36.2.1.2.1
theorem k0_off2051_inb : ∀ (v330 : BitVec 32) (k0_hw36 : k0_chk36 v330), ∀ a, (k0_off2051 v330) a + S1x1x1x8x128.size a ≤ S2x10x108x8x128.size a := fun v330 k0_hw36 => k0_hw36.2.1.2.2.1
theorem k0_off2053_inb : ∀ (v330 : BitVec 32) (k0_hw36 : k0_chk36 v330), ∀ a, (k0_off2053 v330) a + S1x1x1x8x128.size a ≤ S2x10x108x8x128.size a := fun v330 k0_hw36 => k0_hw36.2.1.2.2.2.1
theorem k0_off2056_inb : ∀ (v330 : BitVec 32) (k0_hw36 : k0_chk36 v330), ∀ a, (k0_off2056 v330) a + S1x1x1x8x128.size a ≤ S2x10x108x8x128.size a := fun v330 k0_hw36 => k0_hw36.2.1.2.2.2.2.1
theorem k0_off2058_inb : ∀ (v330 : BitVec 32) (k0_hw36 : k0_chk36 v330), ∀ a, (k0_off2058 v330) a + S1x1x1x8x128.size a ≤ S2x10x108x8x128.size a := fun v330 k0_hw36 => k0_hw36.2.1.2.2.2.2.2.1
theorem k0_off2061_inb : ∀ (v330 : BitVec 32) (k0_hw36 : k0_chk36 v330), ∀ a, (k0_off2061 v330) a + S1x1x1x8x128.size a ≤ S2x10x108x8x128.size a := fun v330 k0_hw36 => k0_hw36.2.1.2.2.2.2.2.2.1
theorem k0_off2063_inb : ∀ (v330 : BitVec 32) (k0_hw36 : k0_chk36 v330), ∀ a, (k0_off2063 v330) a + S1x1x1x8x128.size a ≤ S2x10x108x8x128.size a := fun v330 k0_hw36 => k0_hw36.2.1.2.2.2.2.2.2.2.1
theorem k0_off2066_inb : ∀ (v330 : BitVec 32) (k0_hw36 : k0_chk36 v330), ∀ a, (k0_off2066 v330) a + S1x1x1x8x128.size a ≤ S2x10x108x8x128.size a := fun v330 k0_hw36 => k0_hw36.2.1.2.2.2.2.2.2.2.2.1
theorem k0_off2068_inb : ∀ (v330 : BitVec 32) (k0_hw36 : k0_chk36 v330), ∀ a, (k0_off2068 v330) a + S1x1x1x8x128.size a ≤ S2x10x108x8x128.size a := fun v330 k0_hw36 => k0_hw36.2.1.2.2.2.2.2.2.2.2.2.1
theorem k0_off2071_inb : ∀ (v330 : BitVec 32) (k0_hw36 : k0_chk36 v330), ∀ a, (k0_off2071 v330) a + S1x1x1x8x128.size a ≤ S2x10x108x8x128.size a := fun v330 k0_hw36 => k0_hw36.2.1.2.2.2.2.2.2.2.2.2.2.1
theorem k0_off2073_inb : ∀ (v330 : BitVec 32) (k0_hw36 : k0_chk36 v330), ∀ a, (k0_off2073 v330) a + S1x1x1x8x128.size a ≤ S2x10x108x8x128.size a := fun v330 k0_hw36 => k0_hw36.2.1.2.2.2.2.2.2.2.2.2.2.2.1
theorem k0_off2076_inb : ∀ (v330 : BitVec 32) (k0_hw36 : k0_chk36 v330), ∀ a, (k0_off2076 v330) a + S1x1x1x8x128.size a ≤ S2x10x108x8x128.size a := fun v330 k0_hw36 => k0_hw36.2.1.2.2.2.2.2.2.2.2.2.2.2.2.1
theorem k0_off2078_inb : ∀ (v330 : BitVec 32) (k0_hw36 : k0_chk36 v330), ∀ a, (k0_off2078 v330) a + S1x1x1x8x128.size a ≤ S2x10x108x8x128.size a := fun v330 k0_hw36 => k0_hw36.2.1.2.2.2.2.2.2.2.2.2.2.2.2.2.1
theorem k0_off2081_inb : ∀ (v330 : BitVec 32) (k0_hw36 : k0_chk36 v330), ∀ a, (k0_off2081 v330) a + S1x1x1x8x128.size a ≤ S2x10x108x8x128.size a := fun v330 k0_hw36 => k0_hw36.2.1.2.2.2.2.2.2.2.2.2.2.2.2.2.2.1
theorem k0_off2083_inb : ∀ (v330 : BitVec 32) (k0_hw36 : k0_chk36 v330), ∀ a, (k0_off2083 v330) a + S1x1x1x8x128.size a ≤ S2x10x108x8x128.size a := fun v330 k0_hw36 => k0_hw36.2.1.2.2.2.2.2.2.2.2.2.2.2.2.2.2.2.1
theorem k0_off2086_inb : ∀ (v330 : BitVec 32) (k0_hw36 : k0_chk36 v330), ∀ a, (k0_off2086 v330) a + S1x1x1x8x128.size a ≤ S2x10x108x8x128.size a := fun v330 k0_hw36 => k0_hw36.2.1.2.2.2.2.2.2.2.2.2.2.2.2.2.2.2.2.1
theorem k0_off2088_inb : ∀ (v330 : BitVec 32) (k0_hw36 : k0_chk36 v330), ∀ a, (k0_off2088 v330) a + S1x1x1x8x128.size a ≤ S2x10x108x8x128.size a := fun v330 k0_hw36 => k0_hw36.2.1.2.2.2.2.2.2.2.2.2.2.2.2.2.2.2.2.2.1
theorem k0_off2091_inb : ∀ (v330 : BitVec 32) (k0_hw36 : k0_chk36 v330), ∀ a, (k0_off2091 v330) a + S1x1x1x8x128.size a ≤ S2x10x108x8x128.size a := fun v330 k0_hw36 => k0_hw36.2.1.2.2.2.2.2.2.2.2.2.2.2.2.2.2.2.2.2.2.1
theorem k0_off2093_inb : ∀ (v330 : BitVec 32) (k0_hw36 : k0_chk36 v330), ∀ a, (k0_off2093 v330) a + S1x1x1x8x128.size a ≤ S2x10x108x8x128.size a := fun v330 k0_hw36 => k0_hw36.2.1.2.2.2.2.2.2.2.2.2.2.2.2.2.2.2.2.2.2.2.1
theorem k0_off2096_inb : ∀ (v330 : BitVec 32) (k0_hw36 : k0_chk36 v330), ∀ a, (k0_off2096 v330) a + S1x1x1x8x128.size a ≤ S2x10x108x8x128.size a := fun v330 k0_hw36 => k0_hw36.2.1.2.2.2.2.2.2.2.2.2.2.2.2.2.2.2.2.2.2.2.2.1
theorem k0_off2098_inb : ∀ (v330 : BitVec 32) (k0_hw36 : k0_chk36 v330), ∀ a, (k0_off2098 v330) a + S1x1x1x8x128.size a ≤ S2x10x108x8x128.size a := fun v330 k0_hw36 => k0_hw36.2.1.2.2.2.2.2.2.2.2.2.2.2.2.2.2.2.2.2.2.2.2.2.1
theorem k0_off2101_inb : ∀ (v330 : BitVec 32) (k0_hw36 : k0_chk36 v330), ∀ a, (k0_off2101 v330) a + S1x1x1x8x128.size a ≤ S2x10x108x8x128.size a := fun v330 k0_hw36 => k0_hw36.2.1.2.2.2.2.2.2.2.2.2.2.2.2.2.2.2.2.2.2.2.2.2.2.1
theorem k0_off2103_inb : ∀ (v330 : BitVec 32) (k0_hw36 : k0_chk36 v330), ∀ a, (k0_off2103 v330) a + S1x1x1x8x128.size a ≤ S2x10x108x8x128.size a := fun v330 k0_hw36 => k0_hw36.2.1.2.2.2.2.2.2.2.2.2.2.2.2.2.2.2.2.2.2.2.2.2.2.2.1
theorem k0_off2106_inb : ∀ (v330 : BitVec 32) (k0_hw36 : k0_chk36 v330), ∀ a, (k0_off2106 v330) a + S1x1x1x8x128.size a ≤ S2x10x108x8x128.size a := fun v330 k0_hw36 => k0_hw36.2.1.2.2.2.2.2.2.2.2.2.2.2.2.2.2.2.2.2.2.2.2.2.2.2.2.1
theorem k0_off2108_inb : ∀ (v330 : BitVec 32) (k0_hw36 : k0_chk36 v330), ∀ a, (k0_off2108 v330) a + S1x1x1x8x128.size a ≤ S2x10x108x8x128.size a := fun v330 k0_hw36 => k0_hw36.2.1.2.2.2.2.2.2.2.2.2.2.2.2.2.2.2.2.2.2.2.2.2.2.2.2.2.1
theorem k0_off2111_inb : ∀ (v330 : BitVec 32) (k0_hw36 : k0_chk36 v330), ∀ a, (k0_off2111 v330) a + S1x1x1x8x128.size a ≤ S2x10x108x8x128.size a := fun v330 k0_hw36 => k0_hw36.2.1.2.2.2.2.2.2.2.2.2.2.2.2.2.2.2.2.2.2.2.2.2.2.2.2.2.2.1
theorem k0_off2113_inb : ∀ (v330 : BitVec 32) (k0_hw36 : k0_chk36 v330), ∀ a, (k0_off2113 v330) a + S1x1x1x8x128.size a ≤ S2x10x108x8x128.size a := fun v330 k0_hw36 => k0_hw36.2.1.2.2.2.2.2.2.2.2.2.2.2.2.2.2.2.2.2.2.2.2.2.2.2.2.2.2.2.1
theorem k0_off2116_inb : ∀ (v330 : BitVec 32) (k0_hw36 : k0_chk36 v330), ∀ a, (k0_off2116 v330) a + S1x1x1x8x128.size a ≤ S2x10x108x8x128.size a := fun v330 k0_hw36 => k0_hw36.2.1.2.2.2.2.2.2.2.2.2.2.2.2.2.2.2.2.2.2.2.2.2.2.2.2.2.2.2.2.1
theorem k0_off2118_inb : ∀ (v330 : BitVec 32) (k0_hw36 : k0_chk36 v330), ∀ a, (k0_off2118 v330) a + S1x1x1x8x128.size a ≤ S2x10x108x8x128.size a := fun v330 k0_hw36 => k0_hw36.2.1.2.2.2.2.2.2.2.2.2.2.2.2.2.2.2.2.2.2.2.2.2.2.2.2.2.2.2.2.2.1
theorem k0_off2121_inb : ∀ (v330 : BitVec 32) (k0_hw36 : k0_chk36 v330), ∀ a, (k0_off2121 v330) a + S1x1x1x8x128.size a ≤ S2x10x108x8x128.size a := fun v330 k0_hw36 => k0_hw36.2.1.2.2.2.2.2.2.2.2.2.2.2.2.2.2.2.2.2.2.2.2.2.2.2.2.2.2.2.2.2.2.1
theorem k0_off2123_inb : ∀ (v330 : BitVec 32) (k0_hw36 : k0_chk36 v330), ∀ a, (k0_off2123 v330) a + S1x1x1x8x128.size a ≤ S2x10x108x8x128.size a := fun v330 k0_hw36 => k0_hw36.2.1.2.2.2.2.2.2.2.2.2.2.2.2.2.2.2.2.2.2.2.2.2.2.2.2.2.2.2.2.2.2.2
theorem k0_off2126_inb : ∀ (v330 : BitVec 32) (k0_hw36 : k0_chk36 v330), ∀ a, (k0_off2126 v330) a + S1x1x1x8x128.size a ≤ S2x10x108x8x128.size a := fun v330 k0_hw36 => k0_hw36.2.2.1.1
theorem k0_off2128_inb : ∀ (v330 : BitVec 32) (k0_hw36 : k0_chk36 v330), ∀ a, (k0_off2128 v330) a + S1x1x1x8x128.size a ≤ S2x10x108x8x128.size a := fun v330 k0_hw36 => k0_hw36.2.2.1.2.1
theorem k0_off2131_inb : ∀ (v330 : BitVec 32) (k0_hw36 : k0_chk36 v330), ∀ a, (k0_off2131 v330) a + S1x1x1x8x128.size a ≤ S2x10x108x8x128.size a := fun v330 k0_hw36 => k0_hw36.2.2.1.2.2.1
theorem k0_off2133_inb : ∀ (v330 : BitVec 32) (k0_hw36 : k0_chk36 v330), ∀ a, (k0_off2133 v330) a + S1x1x1x8x128.size a ≤ S2x10x108x8x128.size a := fun v330 k0_hw36 => k0_hw36.2.2.1.2.2.2.1
theorem k0_off2136_inb : ∀ (v330 : BitVec 32) (k0_hw36 : k0_chk36 v330), ∀ a, (k0_off2136 v330) a + S1x1x1x8x128.size a ≤ S2x10x108x8x128.size a := fun v330 k0_hw36 => k0_hw36.2.2.1.2.2.2.2.1
theorem k0_off2138_inb : ∀ (v330 : BitVec 32) (k0_hw36 : k0_chk36 v330), ∀ a, (k0_off2138 v330) a + S1x1x1x8x128.size a ≤ S2x10x108x8x128.size a := fun v330 k0_hw36 => k0_hw36.2.2.1.2.2.2.2.2.1
theorem k0_off2141_inb : ∀ (v330 : BitVec 32) (k0_hw36 : k0_chk36 v330), ∀ a, (k0_off2141 v330) a + S1x1x1x8x128.size a ≤ S2x10x108x8x128.size a := fun v330 k0_hw36 => k0_hw36.2.2.1.2.2.2.2.2.2.1
theorem k0_off2143_inb : ∀ (v330 : BitVec 32) (k0_hw36 : k0_chk36 v330), ∀ a, (k0_off2143 v330) a + S1x1x1x8x128.size a ≤ S2x10x108x8x128.size a := fun v330 k0_hw36 => k0_hw36.2.2.1.2.2.2.2.2.2.2.1
theorem k0_off2146_inb : ∀ (v330 : BitVec 32) (k0_hw36 : k0_chk36 v330), ∀ a, (k0_off2146 v330) a + S1x1x1x8x128.size a ≤ S2x10x108x8x128.size a := fun v330 k0_hw36 => k0_hw36.2.2.1.2.2.2.2.2.2.2.2.1
theorem k0_off2148_inb : ∀ (v330 : BitVec 32) (k0_hw36 : k0_chk36 v330), ∀ a, (k0_off2148 v330) a + S1x1x1x8x128.size a ≤ S2x10x108x8x128.size a := fun v330 k0_hw36 => k0_hw36.2.2.1.2.2.2.2.2.2.2.2.2.1
theorem k0_off2151_inb : ∀ (v330 : BitVec 32) (k0_hw36 : k0_chk36 v330), ∀ a, (k0_off2151 v330) a + S1x1x1x8x128.size a ≤ S2x10x108x8x128.size a := fun v330 k0_hw36 => k0_hw36.2.2.1.2.2.2.2.2.2.2.2.2.2.1
theorem k0_off2153_inb : ∀ (v330 : BitVec 32) (k0_hw36 : k0_chk36 v330), ∀ a, (k0_off2153 v330) a + S1x1x1x8x128.size a ≤ S2x10x108x8x128.size a := fun v330 k0_hw36 => k0_hw36.2.2.1.2.2.2.2.2.2.2.2.2.2.2.1
theorem k0_off2156_inb : ∀ (v330 : BitVec 32) (k0_hw36 : k0_chk36 v330), ∀ a, (k0_off2156 v330) a + S1x1x1x8x128.size a ≤ S2x10x108x8x128.size a := fun v330 k0_hw36 => k0_hw36.2.2.1.2.2.2.2.2.2.2.2.2.2.2.2.1
theorem k0_off2158_inb : ∀ (v330 : BitVec 32) (k0_hw36 : k0_chk36 v330), ∀ a, (k0_off2158 v330) a + S1x1x1x8x128.size a ≤ S2x10x108x8x128.size a := fun v330 k0_hw36 => k0_hw36.2.2.1.2.2.2.2.2.2.2.2.2.2.2.2.2.1
theorem k0_off2161_inb : ∀ (v330 : BitVec 32) (k0_hw36 : k0_chk36 v330), ∀ a, (k0_off2161 v330) a + S1x1x1x8x128.size a ≤ S2x10x108x8x128.size a := fun v330 k0_hw36 => k0_hw36.2.2.1.2.2.2.2.2.2.2.2.2.2.2.2.2.2.1
theorem k0_off2163_inb : ∀ (v330 : BitVec 32) (k0_hw36 : k0_chk36 v330), ∀ a, (k0_off2163 v330) a + S1x1x1x8x128.size a ≤ S2x10x108x8x128.size a := fun v330 k0_hw36 => k0_hw36.2.2.1.2.2.2.2.2.2.2.2.2.2.2.2.2.2.2.1
theorem k0_off2166_inb : ∀ (v330 : BitVec 32) (k0_hw36 : k0_chk36 v330), ∀ a, (k0_off2166 v330) a + S1x1x1x8x128.size a ≤ S2x10x108x8x128.size a := fun v330 k0_hw36 => k0_hw36.2.2.1.2.2.2.2.2.2.2.2.2.2.2.2.2.2.2.2.1
theorem k0_off2168_inb : ∀ (v330 : BitVec 32) (k0_hw36 : k0_chk36 v330), ∀ a, (k0_off2168 v330) a + S1x1x1x8x128.size a ≤ S2x10x108x8x128.size a := fun v330 k0_hw36 => k0_hw36.2.2.1.2.2.2.2.2.2.2.2.2.2.2.2.2.2.2.2.2.1
theorem k0_off2171_inb : ∀ (v330 : BitVec 32) (k0_hw36 : k0_chk36 v330), ∀ a, (k0_off2171 v330) a + S1x1x1x8x128.size a ≤ S2x10x108x8x128.size a := fun v330 k0_hw36 => k0_hw36.2.2.1.2.2.2.2.2.2.2.2.2.2.2.2.2.2.2.2.2.2.1
theorem k0_off2173_inb : ∀ (v330 : BitVec 32) (k0_hw36 : k0_chk36 v330), ∀ a, (k0_off2173 v330) a + S1x1x1x8x128.size a ≤ S2x10x108x8x128.size a := fun v330 k0_hw36 => k0_hw36.2.2.1.2.2.2.2.2.2.2.2.2.2.2.2.2.2.2.2.2.2.2.1
theorem k0_off2176_inb : ∀ (v330 : BitVec 32) (k0_hw36 : k0_chk36 v330), ∀ a, (k0_off2176 v330) a + S1x1x1x8x128.size a ≤ S2x10x108x8x128.size a := fun v330 k0_hw36 => k0_hw36.2.2.1.2.2.2.2.2.2.2.2.2.2.2.2.2.2.2.2.2.2.2.2.1
theorem k0_off2178_inb : ∀ (v330 : BitVec 32) (k0_hw36 : k0_chk36 v330), ∀ a, (k0_off2178 v330) a + S1x1x1x8x128.size a ≤ S2x10x108x8x128.size a := fun v330 k0_hw36 => k0_hw36.2.2.1.2.2.2.2.2.2.2.2.2.2.2.2.2.2.2.2.2.2.2.2.2.1
theorem k0_off2181_inb : ∀ (v330 : BitVec 32) (k0_hw36 : k0_chk36 v330), ∀ a, (k0_off2181 v330) a + S1x1x1x8x128.size a ≤ S2x10x108x8x128.size a := fun v330 k0_hw36 => k0_hw36.2.2.1.2.2.2.2.2.2.2.2.2.2.2.2.2.2.2.2.2.2.2.2.2.2.1
theorem k0_off2183_inb : ∀ (v330 : BitVec 32) (k0_hw36 : k0_chk36 v330), ∀ a, (k0_off2183 v330) a + S1x1x1x8x128.size a ≤ S2x10x108x8x128.size a := fun v330 k0_hw36 => k0_hw36.2.2.1.2.2.2.2.2.2.2.2.2.2.2.2.2.2.2.2.2.2.2.2.2.2.2.1
theorem k0_off2186_inb : ∀ (v330 : BitVec 32) (k0_hw36 : k0_chk36 v330), ∀ a, (k0_off2186 v330) a + S1x1x1x8x128.size a ≤ S2x10x108x8x128.size a := fun v330 k0_hw36 => k0_hw36.2.2.1.2.2.2.2.2.2.2.2.2.2.2.2.2.2.2.2.2.2.2.2.2.2.2.2.1
theorem k0_off2188_inb : ∀ (v330 : BitVec 32) (k0_hw36 : k0_chk36 v330), ∀ a, (k0_off2188 v330) a + S1x1x1x8x128.size a ≤ S2x10x108x8x128.size a := fun v330 k0_hw36 => k0_hw36.2.2.1.2.2.2.2.2.2.2.2.2.2.2.2.2.2.2.2.2.2.2.2.2.2.2.2.2.1
theorem k0_off2191_inb : ∀ (v330 : BitVec 32) (k0_hw36 : k0_chk36 v330), ∀ a, (k0_off2191 v330) a + S1x1x1x8x128.size a ≤ S2x10x108x8x128.size a := fun v330 k0_hw36 => k0_hw36.2.2.1.2.2.2.2.2.2.2.2.2.2.2.2.2.2.2.2.2.2.2.2.2.2.2.2.2.2.1
theorem k0_off2193_inb : ∀ (v330 : BitVec 32) (k0_hw36 : k0_chk36 v330), ∀ a, (k0_off2193 v330) a + S1x1x1x8x128.size a ≤ S2x10x108x8x128.size a := fun v330 k0_hw36 => k0_hw36.2.2.1.2.2.2.2.2.2.2.2.2.2.2.2.2.2.2.2.2.2.2.2.2.2.2.2.2.2.2.1
theorem k0_off2196_inb : ∀ (v330 : BitVec 32) (k0_hw36 : k0_chk36 v330), ∀ a, (k0_off2196 v330) a + S1x1x1x8x128.size a ≤ S2x10x108x8x128.size a := fun v330 k0_hw36 => k0_hw36.2.2.1.2.2.2.2.2.2.2.2.2.2.2.2.2.2.2.2.2.2.2.2.2.2.2.2.2.2.2.2.1
theorem k0_off2198_inb : ∀ (v330 : BitVec 32) (k0_hw36 : k0_chk36 v330), ∀ a, (k0_off2198 v330) a + S1x1x1x8x128.size a ≤ S2x10x108x8x128.size a := fun v330 k0_hw36 => k0_hw36.2.2.1.2.2.2.2.2.2.2.2.2.2.2.2.2.2.2.2.2.2.2.2.2.2.2.2.2.2.2.2.2.1
theorem k0_off2201_inb : ∀ (v330 : BitVec 32) (k0_hw36 : k0_chk36 v330), ∀ a, (k0_off2201 v330) a + S1x1x1x8x128.size a ≤ S2x10x108x8x128.size a := fun v330 k0_hw36 => k0_hw36.2.2.1.2.2.2.2.2.2.2.2.2.2.2.2.2.2.2.2.2.2.2.2.2.2.2.2.2.2.2.2.2.2.1
theorem k0_off2203_inb : ∀ (v330 : BitVec 32) (k0_hw36 : k0_chk36 v330), ∀ a, (k0_off2203 v330) a + S1x1x1x8x128.size a ≤ S2x10x108x8x128.size a := fun v330 k0_hw36 => k0_hw36.2.2.1.2.2.2.2.2.2.2.2.2.2.2.2.2.2.2.2.2.2.2.2.2.2.2.2.2.2.2.2.2.2.2
theorem k0_off2206_inb : ∀ (v330 : BitVec 32) (k0_hw36 : k0_chk36 v330), ∀ a, (k0_off2206 v330) a + S1x1x1x8x128.size a ≤ S2x10x108x8x128.size a := fun v330 k0_hw36 => k0_hw36.2.2.2.1
theorem k0_off2208_inb : ∀ (v330 : BitVec 32) (k0_hw36 : k0_chk36 v330), ∀ a, (k0_off2208 v330) a + S1x1x1x8x128.size a ≤ S2x10x108x8x128.size a := fun v330 k0_hw36 => k0_hw36.2.2.2.2.1
theorem k0_off2211_inb : ∀ (v330 : BitVec 32) (k0_hw36 : k0_chk36 v330), ∀ a, (k0_off2211 v330) a + S1x1x1x8x128.size a ≤ S2x10x108x8x128.size a := fun v330 k0_hw36 => k0_hw36.2.2.2.2.2.1
theorem k0_off2213_inb : ∀ (v330 : BitVec 32) (k0_hw36 : k0_chk36 v330), ∀ a, (k0_off2213 v330) a + S1x1x1x8x128.size a ≤ S2x10x108x8x128.size a := fun v330 k0_hw36 => k0_hw36.2.2.2.2.2.2.1
theorem k0_off2216_inb : ∀ (v330 : BitVec 32) (k0_hw36 : k0_chk36 v330), ∀ a, (k0_off2216 v330) a + S1x1x1x8x128.size a ≤ S2x10x108x8x128.size a := fun v330 k0_hw36 => k0_hw36.2.2.2.2.2.2.2.1
theorem k0_off2218_inb : ∀ (v330 : BitVec 32) (k0_hw36 : k0_chk36 v330), ∀ a, (k0_off2218 v330) a + S1x1x1x8x128.size a ≤ S2x10x108x8x128.size a := fun v330 k0_hw36 => k0_hw36.2.2.2.2.2.2.2.2.1
theorem k0_off2221_inb : ∀ (v330 : BitVec 32) (k0_hw36 : k0_chk36 v330), ∀ a, (k0_off2221 v330) a + S1x1x1x8x128.size a ≤ S2x10x108x8x128.size a := fun v330 k0_hw36 => k0_hw36.2.2.2.2.2.2.2.2.2.1
theorem k0_off2223_inb : ∀ (v330 : BitVec 32) (k0_hw36 : k0_chk36 v330), ∀ a, (k0_off2223 v330) a + S1x1x1x8x128.size a ≤ S2x10x108x8x128.size a := fun v330 k0_hw36 => k0_hw36.2.2.2.2.2.2.2.2.2.2.1
theorem k0_off2226_inb : ∀ (v330 : BitVec 32) (k0_hw36 : k0_chk36 v330), ∀ a, (k0_off2226 v330) a + S1x1x1x8x128.size a ≤ S2x10x108x8x128.size a := fun v330 k0_hw36 => k0_hw36.2.2.2.2.2.2.2.2.2.2.2.1
theorem k0_off2228_inb : ∀ (v330 : BitVec 32) (k0_hw36 : k0_chk36 v330), ∀ a, (k0_off2228 v330) a + S1x1x1x8x128.size a ≤ S2x10x108x8x128.size a := fun v330 k0_hw36 => k0_hw36.2.2.2.2.2.2.2.2.2.2.2.2.1
theorem k0_off2231_inb : ∀ (v330 : BitVec 32) (k0_hw36 : k0_chk36 v330), ∀ a, (k0_off2231 v330) a + S1x1x1x8x128.size a ≤ S2x10x108x8x128.size a := fun v330 k0_hw36 => k0_hw36.2.2.2.2.2.2.2.2.2.2.2.2.2.1
theorem k0_off2233_inb : ∀ (v330 : BitVec 32) (k0_hw36 : k0_chk36 v330), ∀ a, (k0_off2233 v330) a + S1x1x1x8x128.size a ≤ S2x10x108x8x128.size a := fun v330 k0_hw36 => k0_hw36.2.2.2.2.2.2.2.2.2.2.2.2.2.2

def k0_off2234 (v1 : BitVec 32) (k0_t51 : Fin (k0_t51_loop v1).trips) (v228 : BitVec 32) (v257 : BitVec 32) (k0_t54 : Fin (k0_t54_loop v228 v257).trips) : Fin 5 → Nat :=
  let c0_1447 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v3024 : Index := Scalar.indexCast v226
  let c107_1448 : Index := 107#32
  let c0_i32_406 : BitVec 32 := 0#32
  let c1_i32_408 : BitVec 32 := 1#32
  let arg19 : BitVec 32 := Scf.iv c0_i32_406 c1_i32_408 k0_t54
  let c16_i32_473 : BitVec 32 := 16#32
  let v381 : BitVec 32 := Scalar.muli arg19 c16_i32_473
  let v382 : BitVec 32 := v381
  let v3025 : Index := Scalar.indexCast v382
  let c0_1449 : Index := 0#32
  ![0, v3024.toNat, 107, v3025.toNat, 0]
@[reducible] def k0_t55_loop (v228 : BitVec 32) (v257 : BitVec 32) : Scf.Loop 32 :=
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let v275 : BitVec 32 := Scalar.addi c0_i32_406 v274
  let c1_i32_409 : BitVec 32 := 1#32
  ⟨v278, v275, c1_i32_409⟩
def k0_off2235 (v228 : BitVec 32) (v257 : BitVec 32) (k0_t55 : Fin (k0_t55_loop v228 v257).trips) : Fin 2 → Nat :=
  let c0_i32_381 : BitVec 32 := 0#32
  let v230 : BitVec 1 := Scalar.cmpi .sgt v228 c0_i32_381
  let v231 : BitVec 32 := Scalar.extui v230
  let c0_i32_382 : BitVec 32 := 0#32
  let v232 : BitVec 1 := Scalar.cmpi .slt v228 c0_i32_382
  let v233 : BitVec 32 := Scalar.extui v232
  let v234 : BitVec 32 := Scalar.subi v231 v233
  let c16_i32 : BitVec 32 := 16#32
  let c0_i32_383 : BitVec 32 := 0#32
  let v235 : BitVec 1 := Scalar.cmpi .sgt c16_i32 c0_i32_383
  let v236 : BitVec 32 := Scalar.extui v235
  let c0_i32_384 : BitVec 32 := 0#32
  let v237 : BitVec 1 := Scalar.cmpi .slt c16_i32 c0_i32_384
  let v238 : BitVec 32 := Scalar.extui v237
  let v239 : BitVec 32 := Scalar.subi v236 v238
  let v240 : BitVec 1 := Scalar.cmpi .ne v234 v239
  let v241 : BitVec 32 := Scalar.remsi v228 c16_i32
  let c0_i32_385 : BitVec 32 := 0#32
  let v242 : BitVec 1 := Scalar.cmpi .ne v241 c0_i32_385
  let v243 : BitVec 1 := Scalar.andi v240 v242
  let v229 : BitVec 32 := Scalar.divsi v228 c16_i32
  let c1_i32_386 : BitVec 32 := 1#32
  let v244 : BitVec 32 := Scalar.subi v229 c1_i32_386
  let v245 : BitVec 32 := Scalar.select v243 v244 v229
  let v328 : Index := Scalar.indexCast v245
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_452 : BitVec 32 := 8#32
  let v326 : BitVec 32 := Scalar.muli v255 c8_i32_452
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v327 : BitVec 32 := Scalar.addi v326 arg19
  let v329 : Index := Scalar.indexCast v327
  ![v328.toNat, v329.toNat]
def k0_off2236 (v228 : BitVec 32) : Fin 1 → Nat :=
  let c0_i32_381 : BitVec 32 := 0#32
  let v230 : BitVec 1 := Scalar.cmpi .sgt v228 c0_i32_381
  let v231 : BitVec 32 := Scalar.extui v230
  let c0_i32_382 : BitVec 32 := 0#32
  let v232 : BitVec 1 := Scalar.cmpi .slt v228 c0_i32_382
  let v233 : BitVec 32 := Scalar.extui v232
  let v234 : BitVec 32 := Scalar.subi v231 v233
  let c16_i32 : BitVec 32 := 16#32
  let c0_i32_383 : BitVec 32 := 0#32
  let v235 : BitVec 1 := Scalar.cmpi .sgt c16_i32 c0_i32_383
  let v236 : BitVec 32 := Scalar.extui v235
  let c0_i32_384 : BitVec 32 := 0#32
  let v237 : BitVec 1 := Scalar.cmpi .slt c16_i32 c0_i32_384
  let v238 : BitVec 32 := Scalar.extui v237
  let v239 : BitVec 32 := Scalar.subi v236 v238
  let v240 : BitVec 1 := Scalar.cmpi .ne v234 v239
  let v241 : BitVec 32 := Scalar.remsi v228 c16_i32
  let c0_i32_385 : BitVec 32 := 0#32
  let v242 : BitVec 1 := Scalar.cmpi .ne v241 c0_i32_385
  let v243 : BitVec 1 := Scalar.andi v240 v242
  let v229 : BitVec 32 := Scalar.divsi v228 c16_i32
  let c1_i32_386 : BitVec 32 := 1#32
  let v244 : BitVec 32 := Scalar.subi v229 c1_i32_386
  let v245 : BitVec 32 := Scalar.select v243 v244 v229
  let v359 : Index := Scalar.indexCast v245
  ![v359.toNat]
def k0_mult19 (v228 : BitVec 32) (v257 : BitVec 32) (k0_t55 : Fin (k0_t55_loop v228 v257).trips) : BitVec 32 :=
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  v381
def k0_off2237 (v1 : BitVec 32) (k0_t51 : Fin (k0_t51_loop v1).trips) (v228 : BitVec 32) (v257 : BitVec 32) (k0_t55 : Fin (k0_t55_loop v228 v257).trips) : Fin 5 → Nat :=
  let c0 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v383 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v384 : Index := Scalar.indexCast arg19
  let c0_474 : Index := 0#32
  let c0_475 : Index := 0#32
  ![0, v383.toNat, v384.toNat, 0, 0]
def k0_off2238 (v330 : BitVec 32) : Fin 5 → Nat :=
  let c0_476 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v388 : Index := Scalar.indexCast v347
  let c0_477 : Index := 0#32
  let c0_478 : Index := 0#32
  let c0_479 : Index := 0#32
  ![0, v388.toNat, 0, 0, 0]

def k0_off2239 (v1 : BitVec 32) (k0_t51 : Fin (k0_t51_loop v1).trips) (v228 : BitVec 32) (v257 : BitVec 32) (k0_t55 : Fin (k0_t55_loop v228 v257).trips) : Fin 5 → Nat :=
  let c0_482 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v405 : Index := Scalar.indexCast v226
  let c0_483 : Index := 0#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v406 : Index := Scalar.indexCast v382
  let c0_484 : Index := 0#32
  ![0, v405.toNat, 0, v406.toNat, 0]
def k0_off2240 (v330 : BitVec 32) : Fin 5 → Nat :=
  let c0_485 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v410 : Index := Scalar.indexCast v347
  let c1 : Index := 1#32
  let c0_486 : Index := 0#32
  let c0_487 : Index := 0#32
  ![0, v410.toNat, 1, 0, 0]
def k0_off2241 (v1 : BitVec 32) (k0_t51 : Fin (k0_t51_loop v1).trips) (v228 : BitVec 32) (v257 : BitVec 32) (k0_t55 : Fin (k0_t55_loop v228 v257).trips) : Fin 5 → Nat :=
  let c0_490 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v427 : Index := Scalar.indexCast v226
  let c1_491 : Index := 1#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v428 : Index := Scalar.indexCast v382
  let c0_492 : Index := 0#32
  ![0, v427.toNat, 1, v428.toNat, 0]
def k0_off2242 (v1 : BitVec 32) (k0_t51 : Fin (k0_t51_loop v1).trips) (v228 : BitVec 32) (v257 : BitVec 32) (k0_t55 : Fin (k0_t55_loop v228 v257).trips) : Fin 5 → Nat :=
  let c0_493 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v432 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v433 : Index := Scalar.indexCast arg19
  let c32 : Index := 32#32
  let c0_494 : Index := 0#32
  ![0, v432.toNat, v433.toNat, 32, 0]
def k0_off2243 (v330 : BitVec 32) : Fin 5 → Nat :=
  let c0_495 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v437 : Index := Scalar.indexCast v347
  let c2 : Index := 2#32
  let c0_496 : Index := 0#32
  let c0_497 : Index := 0#32
  ![0, v437.toNat, 2, 0, 0]
def k0_off2244 (v1 : BitVec 32) (k0_t51 : Fin (k0_t51_loop v1).trips) (v228 : BitVec 32) (v257 : BitVec 32) (k0_t55 : Fin (k0_t55_loop v228 v257).trips) : Fin 5 → Nat :=
  let c0_500 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v454 : Index := Scalar.indexCast v226
  let c2_501 : Index := 2#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v455 : Index := Scalar.indexCast v382
  let c0_502 : Index := 0#32
  ![0, v454.toNat, 2, v455.toNat, 0]
def k0_off2245 (v330 : BitVec 32) : Fin 5 → Nat :=
  let c0_503 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v459 : Index := Scalar.indexCast v347
  let c3 : Index := 3#32
  let c0_504 : Index := 0#32
  let c0_505 : Index := 0#32
  ![0, v459.toNat, 3, 0, 0]
def k0_off2246 (v1 : BitVec 32) (k0_t51 : Fin (k0_t51_loop v1).trips) (v228 : BitVec 32) (v257 : BitVec 32) (k0_t55 : Fin (k0_t55_loop v228 v257).trips) : Fin 5 → Nat :=
  let c0_508 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v476 : Index := Scalar.indexCast v226
  let c3_509 : Index := 3#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v477 : Index := Scalar.indexCast v382
  let c0_510 : Index := 0#32
  ![0, v476.toNat, 3, v477.toNat, 0]
def k0_off2247 (v1 : BitVec 32) (k0_t51 : Fin (k0_t51_loop v1).trips) (v228 : BitVec 32) (v257 : BitVec 32) (k0_t55 : Fin (k0_t55_loop v228 v257).trips) : Fin 5 → Nat :=
  let c0_511 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v481 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v482 : Index := Scalar.indexCast arg19
  let c64 : Index := 64#32
  let c0_512 : Index := 0#32
  ![0, v481.toNat, v482.toNat, 64, 0]
def k0_off2248 (v330 : BitVec 32) : Fin 5 → Nat :=
  let c0_513 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v486 : Index := Scalar.indexCast v347
  let c4 : Index := 4#32
  let c0_514 : Index := 0#32
  let c0_515 : Index := 0#32
  ![0, v486.toNat, 4, 0, 0]
def k0_off2249 (v1 : BitVec 32) (k0_t51 : Fin (k0_t51_loop v1).trips) (v228 : BitVec 32) (v257 : BitVec 32) (k0_t55 : Fin (k0_t55_loop v228 v257).trips) : Fin 5 → Nat :=
  let c0_518 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v503 : Index := Scalar.indexCast v226
  let c4_519 : Index := 4#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v504 : Index := Scalar.indexCast v382
  let c0_520 : Index := 0#32
  ![0, v503.toNat, 4, v504.toNat, 0]
def k0_off2250 (v330 : BitVec 32) : Fin 5 → Nat :=
  let c0_521 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v508 : Index := Scalar.indexCast v347
  let c5 : Index := 5#32
  let c0_522 : Index := 0#32
  let c0_523 : Index := 0#32
  ![0, v508.toNat, 5, 0, 0]
def k0_off2251 (v1 : BitVec 32) (k0_t51 : Fin (k0_t51_loop v1).trips) (v228 : BitVec 32) (v257 : BitVec 32) (k0_t55 : Fin (k0_t55_loop v228 v257).trips) : Fin 5 → Nat :=
  let c0_526 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v525 : Index := Scalar.indexCast v226
  let c5_527 : Index := 5#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v526 : Index := Scalar.indexCast v382
  let c0_528 : Index := 0#32
  ![0, v525.toNat, 5, v526.toNat, 0]
def k0_off2252 (v1 : BitVec 32) (k0_t51 : Fin (k0_t51_loop v1).trips) (v228 : BitVec 32) (v257 : BitVec 32) (k0_t55 : Fin (k0_t55_loop v228 v257).trips) : Fin 5 → Nat :=
  let c0_529 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v530 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v531 : Index := Scalar.indexCast arg19
  let c96 : Index := 96#32
  let c0_530 : Index := 0#32
  ![0, v530.toNat, v531.toNat, 96, 0]
def k0_off2253 (v330 : BitVec 32) : Fin 5 → Nat :=
  let c0_531 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v535 : Index := Scalar.indexCast v347
  let c6 : Index := 6#32
  let c0_532 : Index := 0#32
  let c0_533 : Index := 0#32
  ![0, v535.toNat, 6, 0, 0]
def k0_off2254 (v1 : BitVec 32) (k0_t51 : Fin (k0_t51_loop v1).trips) (v228 : BitVec 32) (v257 : BitVec 32) (k0_t55 : Fin (k0_t55_loop v228 v257).trips) : Fin 5 → Nat :=
  let c0_536 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v552 : Index := Scalar.indexCast v226
  let c6_537 : Index := 6#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v553 : Index := Scalar.indexCast v382
  let c0_538 : Index := 0#32
  ![0, v552.toNat, 6, v553.toNat, 0]
def k0_off2255 (v330 : BitVec 32) : Fin 5 → Nat :=
  let c0_539 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v557 : Index := Scalar.indexCast v347
  let c7 : Index := 7#32
  let c0_540 : Index := 0#32
  let c0_541 : Index := 0#32
  ![0, v557.toNat, 7, 0, 0]
def k0_off2256 (v1 : BitVec 32) (k0_t51 : Fin (k0_t51_loop v1).trips) (v228 : BitVec 32) (v257 : BitVec 32) (k0_t55 : Fin (k0_t55_loop v228 v257).trips) : Fin 5 → Nat :=
  let c0_544 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v574 : Index := Scalar.indexCast v226
  let c7_545 : Index := 7#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v575 : Index := Scalar.indexCast v382
  let c0_546 : Index := 0#32
  ![0, v574.toNat, 7, v575.toNat, 0]
def k0_off2257 (v1 : BitVec 32) (k0_t51 : Fin (k0_t51_loop v1).trips) (v228 : BitVec 32) (v257 : BitVec 32) (k0_t55 : Fin (k0_t55_loop v228 v257).trips) : Fin 5 → Nat :=
  let c0_547 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v579 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v580 : Index := Scalar.indexCast arg19
  let c128 : Index := 128#32
  let c0_548 : Index := 0#32
  ![0, v579.toNat, v580.toNat, 128, 0]
def k0_off2258 (v330 : BitVec 32) : Fin 5 → Nat :=
  let c0_549 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v584 : Index := Scalar.indexCast v347
  let c8 : Index := 8#32
  let c0_550 : Index := 0#32
  let c0_551 : Index := 0#32
  ![0, v584.toNat, 8, 0, 0]
def k0_off2259 (v1 : BitVec 32) (k0_t51 : Fin (k0_t51_loop v1).trips) (v228 : BitVec 32) (v257 : BitVec 32) (k0_t55 : Fin (k0_t55_loop v228 v257).trips) : Fin 5 → Nat :=
  let c0_554 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v601 : Index := Scalar.indexCast v226
  let c8_555 : Index := 8#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v602 : Index := Scalar.indexCast v382
  let c0_556 : Index := 0#32
  ![0, v601.toNat, 8, v602.toNat, 0]
def k0_off2260 (v330 : BitVec 32) : Fin 5 → Nat :=
  let c0_557 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v606 : Index := Scalar.indexCast v347
  let c9 : Index := 9#32
  let c0_558 : Index := 0#32
  let c0_559 : Index := 0#32
  ![0, v606.toNat, 9, 0, 0]
def k0_off2261 (v1 : BitVec 32) (k0_t51 : Fin (k0_t51_loop v1).trips) (v228 : BitVec 32) (v257 : BitVec 32) (k0_t55 : Fin (k0_t55_loop v228 v257).trips) : Fin 5 → Nat :=
  let c0_562 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v623 : Index := Scalar.indexCast v226
  let c9_563 : Index := 9#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v624 : Index := Scalar.indexCast v382
  let c0_564 : Index := 0#32
  ![0, v623.toNat, 9, v624.toNat, 0]
def k0_off2262 (v1 : BitVec 32) (k0_t51 : Fin (k0_t51_loop v1).trips) (v228 : BitVec 32) (v257 : BitVec 32) (k0_t55 : Fin (k0_t55_loop v228 v257).trips) : Fin 5 → Nat :=
  let c0_565 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v628 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v629 : Index := Scalar.indexCast arg19
  let c160 : Index := 160#32
  let c0_566 : Index := 0#32
  ![0, v628.toNat, v629.toNat, 160, 0]
def k0_off2263 (v330 : BitVec 32) : Fin 5 → Nat :=
  let c0_567 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v633 : Index := Scalar.indexCast v347
  let c10 : Index := 10#32
  let c0_568 : Index := 0#32
  let c0_569 : Index := 0#32
  ![0, v633.toNat, 10, 0, 0]
def k0_off2264 (v1 : BitVec 32) (k0_t51 : Fin (k0_t51_loop v1).trips) (v228 : BitVec 32) (v257 : BitVec 32) (k0_t55 : Fin (k0_t55_loop v228 v257).trips) : Fin 5 → Nat :=
  let c0_572 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v650 : Index := Scalar.indexCast v226
  let c10_573 : Index := 10#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v651 : Index := Scalar.indexCast v382
  let c0_574 : Index := 0#32
  ![0, v650.toNat, 10, v651.toNat, 0]
def k0_off2265 (v330 : BitVec 32) : Fin 5 → Nat :=
  let c0_575 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v655 : Index := Scalar.indexCast v347
  let c11 : Index := 11#32
  let c0_576 : Index := 0#32
  let c0_577 : Index := 0#32
  ![0, v655.toNat, 11, 0, 0]
def k0_off2266 (v1 : BitVec 32) (k0_t51 : Fin (k0_t51_loop v1).trips) (v228 : BitVec 32) (v257 : BitVec 32) (k0_t55 : Fin (k0_t55_loop v228 v257).trips) : Fin 5 → Nat :=
  let c0_580 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v672 : Index := Scalar.indexCast v226
  let c11_581 : Index := 11#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v673 : Index := Scalar.indexCast v382
  let c0_582 : Index := 0#32
  ![0, v672.toNat, 11, v673.toNat, 0]
def k0_off2267 (v1 : BitVec 32) (k0_t51 : Fin (k0_t51_loop v1).trips) (v228 : BitVec 32) (v257 : BitVec 32) (k0_t55 : Fin (k0_t55_loop v228 v257).trips) : Fin 5 → Nat :=
  let c0_583 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v677 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v678 : Index := Scalar.indexCast arg19
  let c192 : Index := 192#32
  let c0_584 : Index := 0#32
  ![0, v677.toNat, v678.toNat, 192, 0]
def k0_off2268 (v330 : BitVec 32) : Fin 5 → Nat :=
  let c0_585 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v682 : Index := Scalar.indexCast v347
  let c12 : Index := 12#32
  let c0_586 : Index := 0#32
  let c0_587 : Index := 0#32
  ![0, v682.toNat, 12, 0, 0]
def k0_off2269 (v1 : BitVec 32) (k0_t51 : Fin (k0_t51_loop v1).trips) (v228 : BitVec 32) (v257 : BitVec 32) (k0_t55 : Fin (k0_t55_loop v228 v257).trips) : Fin 5 → Nat :=
  let c0_590 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v699 : Index := Scalar.indexCast v226
  let c12_591 : Index := 12#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v700 : Index := Scalar.indexCast v382
  let c0_592 : Index := 0#32
  ![0, v699.toNat, 12, v700.toNat, 0]
def k0_off2270 (v330 : BitVec 32) : Fin 5 → Nat :=
  let c0_593 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v704 : Index := Scalar.indexCast v347
  let c13 : Index := 13#32
  let c0_594 : Index := 0#32
  let c0_595 : Index := 0#32
  ![0, v704.toNat, 13, 0, 0]
def k0_off2271 (v1 : BitVec 32) (k0_t51 : Fin (k0_t51_loop v1).trips) (v228 : BitVec 32) (v257 : BitVec 32) (k0_t55 : Fin (k0_t55_loop v228 v257).trips) : Fin 5 → Nat :=
  let c0_598 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v721 : Index := Scalar.indexCast v226
  let c13_599 : Index := 13#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v722 : Index := Scalar.indexCast v382
  let c0_600 : Index := 0#32
  ![0, v721.toNat, 13, v722.toNat, 0]
def k0_off2272 (v1 : BitVec 32) (k0_t51 : Fin (k0_t51_loop v1).trips) (v228 : BitVec 32) (v257 : BitVec 32) (k0_t55 : Fin (k0_t55_loop v228 v257).trips) : Fin 5 → Nat :=
  let c0_601 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v726 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v727 : Index := Scalar.indexCast arg19
  let c224 : Index := 224#32
  let c0_602 : Index := 0#32
  ![0, v726.toNat, v727.toNat, 224, 0]
def k0_off2273 (v330 : BitVec 32) : Fin 5 → Nat :=
  let c0_603 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v731 : Index := Scalar.indexCast v347
  let c14 : Index := 14#32
  let c0_604 : Index := 0#32
  let c0_605 : Index := 0#32
  ![0, v731.toNat, 14, 0, 0]

variable {F : FTy → Type} [BitOps F]

def k0_off2274 (v1 : BitVec 32) (k0_t51 : Fin (k0_t51_loop v1).trips) (v228 : BitVec 32) (v257 : BitVec 32) (k0_t55 : Fin (k0_t55_loop v228 v257).trips) : Fin 5 → Nat :=
  let c0_608 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v748 : Index := Scalar.indexCast v226
  let c14_609 : Index := 14#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v749 : Index := Scalar.indexCast v382
  let c0_610 : Index := 0#32
  ![0, v748.toNat, 14, v749.toNat, 0]
def k0_off2275 (v330 : BitVec 32) : Fin 5 → Nat :=
  let c0_611 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v753 : Index := Scalar.indexCast v347
  let c15 : Index := 15#32
  let c0_612 : Index := 0#32
  let c0_613 : Index := 0#32
  ![0, v753.toNat, 15, 0, 0]
def k0_off2276 (v1 : BitVec 32) (k0_t51 : Fin (k0_t51_loop v1).trips) (v228 : BitVec 32) (v257 : BitVec 32) (k0_t55 : Fin (k0_t55_loop v228 v257).trips) : Fin 5 → Nat :=
  let c0_616 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v770 : Index := Scalar.indexCast v226
  let c15_617 : Index := 15#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v771 : Index := Scalar.indexCast v382
  let c0_618 : Index := 0#32
  ![0, v770.toNat, 15, v771.toNat, 0]
def k0_off2277 (v1 : BitVec 32) (k0_t51 : Fin (k0_t51_loop v1).trips) (v228 : BitVec 32) (v257 : BitVec 32) (k0_t55 : Fin (k0_t55_loop v228 v257).trips) : Fin 5 → Nat :=
  let c0_619 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v775 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v776 : Index := Scalar.indexCast arg19
  let c256 : Index := 256#32
  let c0_620 : Index := 0#32
  ![0, v775.toNat, v776.toNat, 256, 0]
def k0_off2278 (v330 : BitVec 32) : Fin 5 → Nat :=
  let c0_621 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v780 : Index := Scalar.indexCast v347
  let c16 : Index := 16#32
  let c0_622 : Index := 0#32
  let c0_623 : Index := 0#32
  ![0, v780.toNat, 16, 0, 0]
def k0_off2279 (v1 : BitVec 32) (k0_t51 : Fin (k0_t51_loop v1).trips) (v228 : BitVec 32) (v257 : BitVec 32) (k0_t55 : Fin (k0_t55_loop v228 v257).trips) : Fin 5 → Nat :=
  let c0_626 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v797 : Index := Scalar.indexCast v226
  let c16_627 : Index := 16#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v798 : Index := Scalar.indexCast v382
  let c0_628 : Index := 0#32
  ![0, v797.toNat, 16, v798.toNat, 0]
def k0_off2280 (v330 : BitVec 32) : Fin 5 → Nat :=
  let c0_629 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v802 : Index := Scalar.indexCast v347
  let c17 : Index := 17#32
  let c0_630 : Index := 0#32
  let c0_631 : Index := 0#32
  ![0, v802.toNat, 17, 0, 0]
def k0_off2281 (v1 : BitVec 32) (k0_t51 : Fin (k0_t51_loop v1).trips) (v228 : BitVec 32) (v257 : BitVec 32) (k0_t55 : Fin (k0_t55_loop v228 v257).trips) : Fin 5 → Nat :=
  let c0_634 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v819 : Index := Scalar.indexCast v226
  let c17_635 : Index := 17#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v820 : Index := Scalar.indexCast v382
  let c0_636 : Index := 0#32
  ![0, v819.toNat, 17, v820.toNat, 0]
def k0_off2282 (v1 : BitVec 32) (k0_t51 : Fin (k0_t51_loop v1).trips) (v228 : BitVec 32) (v257 : BitVec 32) (k0_t55 : Fin (k0_t55_loop v228 v257).trips) : Fin 5 → Nat :=
  let c0_637 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v824 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v825 : Index := Scalar.indexCast arg19
  let c288 : Index := 288#32
  let c0_638 : Index := 0#32
  ![0, v824.toNat, v825.toNat, 288, 0]
def k0_off2283 (v330 : BitVec 32) : Fin 5 → Nat :=
  let c0_639 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v829 : Index := Scalar.indexCast v347
  let c18 : Index := 18#32
  let c0_640 : Index := 0#32
  let c0_641 : Index := 0#32
  ![0, v829.toNat, 18, 0, 0]
def k0_off2284 (v1 : BitVec 32) (k0_t51 : Fin (k0_t51_loop v1).trips) (v228 : BitVec 32) (v257 : BitVec 32) (k0_t55 : Fin (k0_t55_loop v228 v257).trips) : Fin 5 → Nat :=
  let c0_644 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v846 : Index := Scalar.indexCast v226
  let c18_645 : Index := 18#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v847 : Index := Scalar.indexCast v382
  let c0_646 : Index := 0#32
  ![0, v846.toNat, 18, v847.toNat, 0]
def k0_off2285 (v330 : BitVec 32) : Fin 5 → Nat :=
  let c0_647 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v851 : Index := Scalar.indexCast v347
  let c19 : Index := 19#32
  let c0_648 : Index := 0#32
  let c0_649 : Index := 0#32
  ![0, v851.toNat, 19, 0, 0]
def k0_off2286 (v1 : BitVec 32) (k0_t51 : Fin (k0_t51_loop v1).trips) (v228 : BitVec 32) (v257 : BitVec 32) (k0_t55 : Fin (k0_t55_loop v228 v257).trips) : Fin 5 → Nat :=
  let c0_652 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v868 : Index := Scalar.indexCast v226
  let c19_653 : Index := 19#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v869 : Index := Scalar.indexCast v382
  let c0_654 : Index := 0#32
  ![0, v868.toNat, 19, v869.toNat, 0]
def k0_off2287 (v1 : BitVec 32) (k0_t51 : Fin (k0_t51_loop v1).trips) (v228 : BitVec 32) (v257 : BitVec 32) (k0_t55 : Fin (k0_t55_loop v228 v257).trips) : Fin 5 → Nat :=
  let c0_655 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v873 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v874 : Index := Scalar.indexCast arg19
  let c320 : Index := 320#32
  let c0_656 : Index := 0#32
  ![0, v873.toNat, v874.toNat, 320, 0]
def k0_off2288 (v330 : BitVec 32) : Fin 5 → Nat :=
  let c0_657 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v878 : Index := Scalar.indexCast v347
  let c20 : Index := 20#32
  let c0_658 : Index := 0#32
  let c0_659 : Index := 0#32
  ![0, v878.toNat, 20, 0, 0]
def k0_off2289 (v1 : BitVec 32) (k0_t51 : Fin (k0_t51_loop v1).trips) (v228 : BitVec 32) (v257 : BitVec 32) (k0_t55 : Fin (k0_t55_loop v228 v257).trips) : Fin 5 → Nat :=
  let c0_662 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v895 : Index := Scalar.indexCast v226
  let c20_663 : Index := 20#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v896 : Index := Scalar.indexCast v382
  let c0_664 : Index := 0#32
  ![0, v895.toNat, 20, v896.toNat, 0]
def k0_off2290 (v330 : BitVec 32) : Fin 5 → Nat :=
  let c0_665 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v900 : Index := Scalar.indexCast v347
  let c21 : Index := 21#32
  let c0_666 : Index := 0#32
  let c0_667 : Index := 0#32
  ![0, v900.toNat, 21, 0, 0]
def k0_off2291 (v1 : BitVec 32) (k0_t51 : Fin (k0_t51_loop v1).trips) (v228 : BitVec 32) (v257 : BitVec 32) (k0_t55 : Fin (k0_t55_loop v228 v257).trips) : Fin 5 → Nat :=
  let c0_670 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v917 : Index := Scalar.indexCast v226
  let c21_671 : Index := 21#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v918 : Index := Scalar.indexCast v382
  let c0_672 : Index := 0#32
  ![0, v917.toNat, 21, v918.toNat, 0]
def k0_off2292 (v1 : BitVec 32) (k0_t51 : Fin (k0_t51_loop v1).trips) (v228 : BitVec 32) (v257 : BitVec 32) (k0_t55 : Fin (k0_t55_loop v228 v257).trips) : Fin 5 → Nat :=
  let c0_673 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v922 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v923 : Index := Scalar.indexCast arg19
  let c352 : Index := 352#32
  let c0_674 : Index := 0#32
  ![0, v922.toNat, v923.toNat, 352, 0]
def k0_off2293 (v330 : BitVec 32) : Fin 5 → Nat :=
  let c0_675 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v927 : Index := Scalar.indexCast v347
  let c22 : Index := 22#32
  let c0_676 : Index := 0#32
  let c0_677 : Index := 0#32
  ![0, v927.toNat, 22, 0, 0]
def k0_off2294 (v1 : BitVec 32) (k0_t51 : Fin (k0_t51_loop v1).trips) (v228 : BitVec 32) (v257 : BitVec 32) (k0_t55 : Fin (k0_t55_loop v228 v257).trips) : Fin 5 → Nat :=
  let c0_680 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v944 : Index := Scalar.indexCast v226
  let c22_681 : Index := 22#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v945 : Index := Scalar.indexCast v382
  let c0_682 : Index := 0#32
  ![0, v944.toNat, 22, v945.toNat, 0]
def k0_off2295 (v330 : BitVec 32) : Fin 5 → Nat :=
  let c0_683 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v949 : Index := Scalar.indexCast v347
  let c23 : Index := 23#32
  let c0_684 : Index := 0#32
  let c0_685 : Index := 0#32
  ![0, v949.toNat, 23, 0, 0]
def k0_off2296 (v1 : BitVec 32) (k0_t51 : Fin (k0_t51_loop v1).trips) (v228 : BitVec 32) (v257 : BitVec 32) (k0_t55 : Fin (k0_t55_loop v228 v257).trips) : Fin 5 → Nat :=
  let c0_688 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v966 : Index := Scalar.indexCast v226
  let c23_689 : Index := 23#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v967 : Index := Scalar.indexCast v382
  let c0_690 : Index := 0#32
  ![0, v966.toNat, 23, v967.toNat, 0]
def k0_off2297 (v1 : BitVec 32) (k0_t51 : Fin (k0_t51_loop v1).trips) (v228 : BitVec 32) (v257 : BitVec 32) (k0_t55 : Fin (k0_t55_loop v228 v257).trips) : Fin 5 → Nat :=
  let c0_691 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v971 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v972 : Index := Scalar.indexCast arg19
  let c384 : Index := 384#32
  let c0_692 : Index := 0#32
  ![0, v971.toNat, v972.toNat, 384, 0]
def k0_off2298 (v330 : BitVec 32) : Fin 5 → Nat :=
  let c0_693 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v976 : Index := Scalar.indexCast v347
  let c24 : Index := 24#32
  let c0_694 : Index := 0#32
  let c0_695 : Index := 0#32
  ![0, v976.toNat, 24, 0, 0]
def k0_off2299 (v1 : BitVec 32) (k0_t51 : Fin (k0_t51_loop v1).trips) (v228 : BitVec 32) (v257 : BitVec 32) (k0_t55 : Fin (k0_t55_loop v228 v257).trips) : Fin 5 → Nat :=
  let c0_698 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v993 : Index := Scalar.indexCast v226
  let c24_699 : Index := 24#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v994 : Index := Scalar.indexCast v382
  let c0_700 : Index := 0#32
  ![0, v993.toNat, 24, v994.toNat, 0]
def k0_off2300 (v330 : BitVec 32) : Fin 5 → Nat :=
  let c0_701 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v998 : Index := Scalar.indexCast v347
  let c25 : Index := 25#32
  let c0_702 : Index := 0#32
  let c0_703 : Index := 0#32
  ![0, v998.toNat, 25, 0, 0]
def k0_off2301 (v1 : BitVec 32) (k0_t51 : Fin (k0_t51_loop v1).trips) (v228 : BitVec 32) (v257 : BitVec 32) (k0_t55 : Fin (k0_t55_loop v228 v257).trips) : Fin 5 → Nat :=
  let c0_706 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1015 : Index := Scalar.indexCast v226
  let c25_707 : Index := 25#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1016 : Index := Scalar.indexCast v382
  let c0_708 : Index := 0#32
  ![0, v1015.toNat, 25, v1016.toNat, 0]
def k0_off2302 (v1 : BitVec 32) (k0_t51 : Fin (k0_t51_loop v1).trips) (v228 : BitVec 32) (v257 : BitVec 32) (k0_t55 : Fin (k0_t55_loop v228 v257).trips) : Fin 5 → Nat :=
  let c0_709 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1020 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v1021 : Index := Scalar.indexCast arg19
  let c416 : Index := 416#32
  let c0_710 : Index := 0#32
  ![0, v1020.toNat, v1021.toNat, 416, 0]
def k0_off2303 (v330 : BitVec 32) : Fin 5 → Nat :=
  let c0_711 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1025 : Index := Scalar.indexCast v347
  let c26 : Index := 26#32
  let c0_712 : Index := 0#32
  let c0_713 : Index := 0#32
  ![0, v1025.toNat, 26, 0, 0]
def k0_off2304 (v1 : BitVec 32) (k0_t51 : Fin (k0_t51_loop v1).trips) (v228 : BitVec 32) (v257 : BitVec 32) (k0_t55 : Fin (k0_t55_loop v228 v257).trips) : Fin 5 → Nat :=
  let c0_716 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1042 : Index := Scalar.indexCast v226
  let c26_717 : Index := 26#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1043 : Index := Scalar.indexCast v382
  let c0_718 : Index := 0#32
  ![0, v1042.toNat, 26, v1043.toNat, 0]
def k0_off2305 (v330 : BitVec 32) : Fin 5 → Nat :=
  let c0_719 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1047 : Index := Scalar.indexCast v347
  let c27 : Index := 27#32
  let c0_720 : Index := 0#32
  let c0_721 : Index := 0#32
  ![0, v1047.toNat, 27, 0, 0]
def k0_off2306 (v1 : BitVec 32) (k0_t51 : Fin (k0_t51_loop v1).trips) (v228 : BitVec 32) (v257 : BitVec 32) (k0_t55 : Fin (k0_t55_loop v228 v257).trips) : Fin 5 → Nat :=
  let c0_724 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1064 : Index := Scalar.indexCast v226
  let c27_725 : Index := 27#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1065 : Index := Scalar.indexCast v382
  let c0_726 : Index := 0#32
  ![0, v1064.toNat, 27, v1065.toNat, 0]
def k0_off2307 (v1 : BitVec 32) (k0_t51 : Fin (k0_t51_loop v1).trips) (v228 : BitVec 32) (v257 : BitVec 32) (k0_t55 : Fin (k0_t55_loop v228 v257).trips) : Fin 5 → Nat :=
  let c0_727 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1069 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v1070 : Index := Scalar.indexCast arg19
  let c448 : Index := 448#32
  let c0_728 : Index := 0#32
  ![0, v1069.toNat, v1070.toNat, 448, 0]
def k0_off2308 (v330 : BitVec 32) : Fin 5 → Nat :=
  let c0_729 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1074 : Index := Scalar.indexCast v347
  let c28 : Index := 28#32
  let c0_730 : Index := 0#32
  let c0_731 : Index := 0#32
  ![0, v1074.toNat, 28, 0, 0]
def k0_off2309 (v1 : BitVec 32) (k0_t51 : Fin (k0_t51_loop v1).trips) (v228 : BitVec 32) (v257 : BitVec 32) (k0_t55 : Fin (k0_t55_loop v228 v257).trips) : Fin 5 → Nat :=
  let c0_734 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1091 : Index := Scalar.indexCast v226
  let c28_735 : Index := 28#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1092 : Index := Scalar.indexCast v382
  let c0_736 : Index := 0#32
  ![0, v1091.toNat, 28, v1092.toNat, 0]
def k0_off2310 (v330 : BitVec 32) : Fin 5 → Nat :=
  let c0_737 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1096 : Index := Scalar.indexCast v347
  let c29 : Index := 29#32
  let c0_738 : Index := 0#32
  let c0_739 : Index := 0#32
  ![0, v1096.toNat, 29, 0, 0]
def k0_off2311 (v1 : BitVec 32) (k0_t51 : Fin (k0_t51_loop v1).trips) (v228 : BitVec 32) (v257 : BitVec 32) (k0_t55 : Fin (k0_t55_loop v228 v257).trips) : Fin 5 → Nat :=
  let c0_742 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1113 : Index := Scalar.indexCast v226
  let c29_743 : Index := 29#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1114 : Index := Scalar.indexCast v382
  let c0_744 : Index := 0#32
  ![0, v1113.toNat, 29, v1114.toNat, 0]
def k0_off2312 (v1 : BitVec 32) (k0_t51 : Fin (k0_t51_loop v1).trips) (v228 : BitVec 32) (v257 : BitVec 32) (k0_t55 : Fin (k0_t55_loop v228 v257).trips) : Fin 5 → Nat :=
  let c0_745 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1118 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v1119 : Index := Scalar.indexCast arg19
  let c480 : Index := 480#32
  let c0_746 : Index := 0#32
  ![0, v1118.toNat, v1119.toNat, 480, 0]
def k0_off2313 (v330 : BitVec 32) : Fin 5 → Nat :=
  let c0_747 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1123 : Index := Scalar.indexCast v347
  let c30 : Index := 30#32
  let c0_748 : Index := 0#32
  let c0_749 : Index := 0#32
  ![0, v1123.toNat, 30, 0, 0]
def k0_off2314 (v1 : BitVec 32) (k0_t51 : Fin (k0_t51_loop v1).trips) (v228 : BitVec 32) (v257 : BitVec 32) (k0_t55 : Fin (k0_t55_loop v228 v257).trips) : Fin 5 → Nat :=
  let c0_752 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1140 : Index := Scalar.indexCast v226
  let c30_753 : Index := 30#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1141 : Index := Scalar.indexCast v382
  let c0_754 : Index := 0#32
  ![0, v1140.toNat, 30, v1141.toNat, 0]
def k0_off2315 (v330 : BitVec 32) : Fin 5 → Nat :=
  let c0_755 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1145 : Index := Scalar.indexCast v347
  let c31 : Index := 31#32
  let c0_756 : Index := 0#32
  let c0_757 : Index := 0#32
  ![0, v1145.toNat, 31, 0, 0]
def k0_off2316 (v1 : BitVec 32) (k0_t51 : Fin (k0_t51_loop v1).trips) (v228 : BitVec 32) (v257 : BitVec 32) (k0_t55 : Fin (k0_t55_loop v228 v257).trips) : Fin 5 → Nat :=
  let c0_760 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1162 : Index := Scalar.indexCast v226
  let c31_761 : Index := 31#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1163 : Index := Scalar.indexCast v382
  let c0_762 : Index := 0#32
  ![0, v1162.toNat, 31, v1163.toNat, 0]
def k0_off2317 (v1 : BitVec 32) (k0_t51 : Fin (k0_t51_loop v1).trips) (v228 : BitVec 32) (v257 : BitVec 32) (k0_t55 : Fin (k0_t55_loop v228 v257).trips) : Fin 5 → Nat :=
  let c0_763 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1167 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v1168 : Index := Scalar.indexCast arg19
  let c512 : Index := 512#32
  let c0_764 : Index := 0#32
  ![0, v1167.toNat, v1168.toNat, 512, 0]
def k0_off2318 (v330 : BitVec 32) : Fin 5 → Nat :=
  let c0_765 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1172 : Index := Scalar.indexCast v347
  let c32_766 : Index := 32#32
  let c0_767 : Index := 0#32
  let c0_768 : Index := 0#32
  ![0, v1172.toNat, 32, 0, 0]
def k0_off2319 (v1 : BitVec 32) (k0_t51 : Fin (k0_t51_loop v1).trips) (v228 : BitVec 32) (v257 : BitVec 32) (k0_t55 : Fin (k0_t55_loop v228 v257).trips) : Fin 5 → Nat :=
  let c0_771 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1189 : Index := Scalar.indexCast v226
  let c32_772 : Index := 32#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1190 : Index := Scalar.indexCast v382
  let c0_773 : Index := 0#32
  ![0, v1189.toNat, 32, v1190.toNat, 0]
def k0_off2320 (v330 : BitVec 32) : Fin 5 → Nat :=
  let c0_774 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1194 : Index := Scalar.indexCast v347
  let c33 : Index := 33#32
  let c0_775 : Index := 0#32
  let c0_776 : Index := 0#32
  ![0, v1194.toNat, 33, 0, 0]
def k0_off2321 (v1 : BitVec 32) (k0_t51 : Fin (k0_t51_loop v1).trips) (v228 : BitVec 32) (v257 : BitVec 32) (k0_t55 : Fin (k0_t55_loop v228 v257).trips) : Fin 5 → Nat :=
  let c0_779 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1211 : Index := Scalar.indexCast v226
  let c33_780 : Index := 33#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1212 : Index := Scalar.indexCast v382
  let c0_781 : Index := 0#32
  ![0, v1211.toNat, 33, v1212.toNat, 0]
def k0_off2322 (v1 : BitVec 32) (k0_t51 : Fin (k0_t51_loop v1).trips) (v228 : BitVec 32) (v257 : BitVec 32) (k0_t55 : Fin (k0_t55_loop v228 v257).trips) : Fin 5 → Nat :=
  let c0_782 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1216 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v1217 : Index := Scalar.indexCast arg19
  let c544 : Index := 544#32
  let c0_783 : Index := 0#32
  ![0, v1216.toNat, v1217.toNat, 544, 0]
def k0_off2323 (v330 : BitVec 32) : Fin 5 → Nat :=
  let c0_784 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1221 : Index := Scalar.indexCast v347
  let c34 : Index := 34#32
  let c0_785 : Index := 0#32
  let c0_786 : Index := 0#32
  ![0, v1221.toNat, 34, 0, 0]
def k0_off2324 (v1 : BitVec 32) (k0_t51 : Fin (k0_t51_loop v1).trips) (v228 : BitVec 32) (v257 : BitVec 32) (k0_t55 : Fin (k0_t55_loop v228 v257).trips) : Fin 5 → Nat :=
  let c0_789 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1238 : Index := Scalar.indexCast v226
  let c34_790 : Index := 34#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1239 : Index := Scalar.indexCast v382
  let c0_791 : Index := 0#32
  ![0, v1238.toNat, 34, v1239.toNat, 0]
def k0_off2325 (v330 : BitVec 32) : Fin 5 → Nat :=
  let c0_792 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1243 : Index := Scalar.indexCast v347
  let c35 : Index := 35#32
  let c0_793 : Index := 0#32
  let c0_794 : Index := 0#32
  ![0, v1243.toNat, 35, 0, 0]
def k0_off2326 (v1 : BitVec 32) (k0_t51 : Fin (k0_t51_loop v1).trips) (v228 : BitVec 32) (v257 : BitVec 32) (k0_t55 : Fin (k0_t55_loop v228 v257).trips) : Fin 5 → Nat :=
  let c0_797 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1260 : Index := Scalar.indexCast v226
  let c35_798 : Index := 35#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1261 : Index := Scalar.indexCast v382
  let c0_799 : Index := 0#32
  ![0, v1260.toNat, 35, v1261.toNat, 0]
def k0_off2327 (v1 : BitVec 32) (k0_t51 : Fin (k0_t51_loop v1).trips) (v228 : BitVec 32) (v257 : BitVec 32) (k0_t55 : Fin (k0_t55_loop v228 v257).trips) : Fin 5 → Nat :=
  let c0_800 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1265 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v1266 : Index := Scalar.indexCast arg19
  let c576 : Index := 576#32
  let c0_801 : Index := 0#32
  ![0, v1265.toNat, v1266.toNat, 576, 0]
def k0_off2328 (v330 : BitVec 32) : Fin 5 → Nat :=
  let c0_802 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1270 : Index := Scalar.indexCast v347
  let c36 : Index := 36#32
  let c0_803 : Index := 0#32
  let c0_804 : Index := 0#32
  ![0, v1270.toNat, 36, 0, 0]
def k0_off2329 (v1 : BitVec 32) (k0_t51 : Fin (k0_t51_loop v1).trips) (v228 : BitVec 32) (v257 : BitVec 32) (k0_t55 : Fin (k0_t55_loop v228 v257).trips) : Fin 5 → Nat :=
  let c0_807 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1287 : Index := Scalar.indexCast v226
  let c36_808 : Index := 36#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1288 : Index := Scalar.indexCast v382
  let c0_809 : Index := 0#32
  ![0, v1287.toNat, 36, v1288.toNat, 0]
def k0_off2330 (v330 : BitVec 32) : Fin 5 → Nat :=
  let c0_810 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1292 : Index := Scalar.indexCast v347
  let c37 : Index := 37#32
  let c0_811 : Index := 0#32
  let c0_812 : Index := 0#32
  ![0, v1292.toNat, 37, 0, 0]
def k0_off2331 (v1 : BitVec 32) (k0_t51 : Fin (k0_t51_loop v1).trips) (v228 : BitVec 32) (v257 : BitVec 32) (k0_t55 : Fin (k0_t55_loop v228 v257).trips) : Fin 5 → Nat :=
  let c0_815 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1309 : Index := Scalar.indexCast v226
  let c37_816 : Index := 37#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1310 : Index := Scalar.indexCast v382
  let c0_817 : Index := 0#32
  ![0, v1309.toNat, 37, v1310.toNat, 0]
def k0_off2332 (v1 : BitVec 32) (k0_t51 : Fin (k0_t51_loop v1).trips) (v228 : BitVec 32) (v257 : BitVec 32) (k0_t55 : Fin (k0_t55_loop v228 v257).trips) : Fin 5 → Nat :=
  let c0_818 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1314 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v1315 : Index := Scalar.indexCast arg19
  let c608 : Index := 608#32
  let c0_819 : Index := 0#32
  ![0, v1314.toNat, v1315.toNat, 608, 0]
def k0_off2333 (v330 : BitVec 32) : Fin 5 → Nat :=
  let c0_820 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1319 : Index := Scalar.indexCast v347
  let c38 : Index := 38#32
  let c0_821 : Index := 0#32
  let c0_822 : Index := 0#32
  ![0, v1319.toNat, 38, 0, 0]
def k0_off2334 (v1 : BitVec 32) (k0_t51 : Fin (k0_t51_loop v1).trips) (v228 : BitVec 32) (v257 : BitVec 32) (k0_t55 : Fin (k0_t55_loop v228 v257).trips) : Fin 5 → Nat :=
  let c0_825 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1336 : Index := Scalar.indexCast v226
  let c38_826 : Index := 38#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1337 : Index := Scalar.indexCast v382
  let c0_827 : Index := 0#32
  ![0, v1336.toNat, 38, v1337.toNat, 0]
def k0_off2335 (v330 : BitVec 32) : Fin 5 → Nat :=
  let c0_828 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1341 : Index := Scalar.indexCast v347
  let c39 : Index := 39#32
  let c0_829 : Index := 0#32
  let c0_830 : Index := 0#32
  ![0, v1341.toNat, 39, 0, 0]
def k0_off2336 (v1 : BitVec 32) (k0_t51 : Fin (k0_t51_loop v1).trips) (v228 : BitVec 32) (v257 : BitVec 32) (k0_t55 : Fin (k0_t55_loop v228 v257).trips) : Fin 5 → Nat :=
  let c0_833 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1358 : Index := Scalar.indexCast v226
  let c39_834 : Index := 39#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1359 : Index := Scalar.indexCast v382
  let c0_835 : Index := 0#32
  ![0, v1358.toNat, 39, v1359.toNat, 0]
def k0_off2337 (v1 : BitVec 32) (k0_t51 : Fin (k0_t51_loop v1).trips) (v228 : BitVec 32) (v257 : BitVec 32) (k0_t55 : Fin (k0_t55_loop v228 v257).trips) : Fin 5 → Nat :=
  let c0_836 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1363 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v1364 : Index := Scalar.indexCast arg19
  let c640 : Index := 640#32
  let c0_837 : Index := 0#32
  ![0, v1363.toNat, v1364.toNat, 640, 0]
def k0_off2338 (v330 : BitVec 32) : Fin 5 → Nat :=
  let c0_838 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1368 : Index := Scalar.indexCast v347
  let c40 : Index := 40#32
  let c0_839 : Index := 0#32
  let c0_840 : Index := 0#32
  ![0, v1368.toNat, 40, 0, 0]
def k0_off2339 (v1 : BitVec 32) (k0_t51 : Fin (k0_t51_loop v1).trips) (v228 : BitVec 32) (v257 : BitVec 32) (k0_t55 : Fin (k0_t55_loop v228 v257).trips) : Fin 5 → Nat :=
  let c0_843 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1385 : Index := Scalar.indexCast v226
  let c40_844 : Index := 40#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1386 : Index := Scalar.indexCast v382
  let c0_845 : Index := 0#32
  ![0, v1385.toNat, 40, v1386.toNat, 0]
def k0_off2340 (v330 : BitVec 32) : Fin 5 → Nat :=
  let c0_846 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1390 : Index := Scalar.indexCast v347
  let c41 : Index := 41#32
  let c0_847 : Index := 0#32
  let c0_848 : Index := 0#32
  ![0, v1390.toNat, 41, 0, 0]
def k0_off2341 (v1 : BitVec 32) (k0_t51 : Fin (k0_t51_loop v1).trips) (v228 : BitVec 32) (v257 : BitVec 32) (k0_t55 : Fin (k0_t55_loop v228 v257).trips) : Fin 5 → Nat :=
  let c0_851 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1407 : Index := Scalar.indexCast v226
  let c41_852 : Index := 41#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1408 : Index := Scalar.indexCast v382
  let c0_853 : Index := 0#32
  ![0, v1407.toNat, 41, v1408.toNat, 0]
def k0_off2342 (v1 : BitVec 32) (k0_t51 : Fin (k0_t51_loop v1).trips) (v228 : BitVec 32) (v257 : BitVec 32) (k0_t55 : Fin (k0_t55_loop v228 v257).trips) : Fin 5 → Nat :=
  let c0_854 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1412 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v1413 : Index := Scalar.indexCast arg19
  let c672 : Index := 672#32
  let c0_855 : Index := 0#32
  ![0, v1412.toNat, v1413.toNat, 672, 0]
def k0_off2343 (v330 : BitVec 32) : Fin 5 → Nat :=
  let c0_856 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1417 : Index := Scalar.indexCast v347
  let c42 : Index := 42#32
  let c0_857 : Index := 0#32
  let c0_858 : Index := 0#32
  ![0, v1417.toNat, 42, 0, 0]
def k0_off2344 (v1 : BitVec 32) (k0_t51 : Fin (k0_t51_loop v1).trips) (v228 : BitVec 32) (v257 : BitVec 32) (k0_t55 : Fin (k0_t55_loop v228 v257).trips) : Fin 5 → Nat :=
  let c0_861 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1434 : Index := Scalar.indexCast v226
  let c42_862 : Index := 42#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1435 : Index := Scalar.indexCast v382
  let c0_863 : Index := 0#32
  ![0, v1434.toNat, 42, v1435.toNat, 0]
def k0_off2345 (v330 : BitVec 32) : Fin 5 → Nat :=
  let c0_864 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1439 : Index := Scalar.indexCast v347
  let c43 : Index := 43#32
  let c0_865 : Index := 0#32
  let c0_866 : Index := 0#32
  ![0, v1439.toNat, 43, 0, 0]
def k0_off2346 (v1 : BitVec 32) (k0_t51 : Fin (k0_t51_loop v1).trips) (v228 : BitVec 32) (v257 : BitVec 32) (k0_t55 : Fin (k0_t55_loop v228 v257).trips) : Fin 5 → Nat :=
  let c0_869 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1456 : Index := Scalar.indexCast v226
  let c43_870 : Index := 43#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1457 : Index := Scalar.indexCast v382
  let c0_871 : Index := 0#32
  ![0, v1456.toNat, 43, v1457.toNat, 0]
def k0_off2347 (v1 : BitVec 32) (k0_t51 : Fin (k0_t51_loop v1).trips) (v228 : BitVec 32) (v257 : BitVec 32) (k0_t55 : Fin (k0_t55_loop v228 v257).trips) : Fin 5 → Nat :=
  let c0_872 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1461 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v1462 : Index := Scalar.indexCast arg19
  let c704 : Index := 704#32
  let c0_873 : Index := 0#32
  ![0, v1461.toNat, v1462.toNat, 704, 0]
def k0_off2348 (v330 : BitVec 32) : Fin 5 → Nat :=
  let c0_874 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1466 : Index := Scalar.indexCast v347
  let c44 : Index := 44#32
  let c0_875 : Index := 0#32
  let c0_876 : Index := 0#32
  ![0, v1466.toNat, 44, 0, 0]
def k0_off2349 (v1 : BitVec 32) (k0_t51 : Fin (k0_t51_loop v1).trips) (v228 : BitVec 32) (v257 : BitVec 32) (k0_t55 : Fin (k0_t55_loop v228 v257).trips) : Fin 5 → Nat :=
  let c0_879 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1483 : Index := Scalar.indexCast v226
  let c44_880 : Index := 44#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1484 : Index := Scalar.indexCast v382
  let c0_881 : Index := 0#32
  ![0, v1483.toNat, 44, v1484.toNat, 0]
def k0_off2350 (v330 : BitVec 32) : Fin 5 → Nat :=
  let c0_882 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1488 : Index := Scalar.indexCast v347
  let c45 : Index := 45#32
  let c0_883 : Index := 0#32
  let c0_884 : Index := 0#32
  ![0, v1488.toNat, 45, 0, 0]
def k0_off2351 (v1 : BitVec 32) (k0_t51 : Fin (k0_t51_loop v1).trips) (v228 : BitVec 32) (v257 : BitVec 32) (k0_t55 : Fin (k0_t55_loop v228 v257).trips) : Fin 5 → Nat :=
  let c0_887 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1505 : Index := Scalar.indexCast v226
  let c45_888 : Index := 45#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1506 : Index := Scalar.indexCast v382
  let c0_889 : Index := 0#32
  ![0, v1505.toNat, 45, v1506.toNat, 0]
def k0_off2352 (v1 : BitVec 32) (k0_t51 : Fin (k0_t51_loop v1).trips) (v228 : BitVec 32) (v257 : BitVec 32) (k0_t55 : Fin (k0_t55_loop v228 v257).trips) : Fin 5 → Nat :=
  let c0_890 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1510 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v1511 : Index := Scalar.indexCast arg19
  let c736 : Index := 736#32
  let c0_891 : Index := 0#32
  ![0, v1510.toNat, v1511.toNat, 736, 0]
def k0_off2353 (v330 : BitVec 32) : Fin 5 → Nat :=
  let c0_892 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1515 : Index := Scalar.indexCast v347
  let c46 : Index := 46#32
  let c0_893 : Index := 0#32
  let c0_894 : Index := 0#32
  ![0, v1515.toNat, 46, 0, 0]
def k0_off2354 (v1 : BitVec 32) (k0_t51 : Fin (k0_t51_loop v1).trips) (v228 : BitVec 32) (v257 : BitVec 32) (k0_t55 : Fin (k0_t55_loop v228 v257).trips) : Fin 5 → Nat :=
  let c0_897 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1532 : Index := Scalar.indexCast v226
  let c46_898 : Index := 46#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1533 : Index := Scalar.indexCast v382
  let c0_899 : Index := 0#32
  ![0, v1532.toNat, 46, v1533.toNat, 0]
def k0_off2355 (v330 : BitVec 32) : Fin 5 → Nat :=
  let c0_900 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1537 : Index := Scalar.indexCast v347
  let c47 : Index := 47#32
  let c0_901 : Index := 0#32
  let c0_902 : Index := 0#32
  ![0, v1537.toNat, 47, 0, 0]
def k0_off2356 (v1 : BitVec 32) (k0_t51 : Fin (k0_t51_loop v1).trips) (v228 : BitVec 32) (v257 : BitVec 32) (k0_t55 : Fin (k0_t55_loop v228 v257).trips) : Fin 5 → Nat :=
  let c0_905 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1554 : Index := Scalar.indexCast v226
  let c47_906 : Index := 47#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1555 : Index := Scalar.indexCast v382
  let c0_907 : Index := 0#32
  ![0, v1554.toNat, 47, v1555.toNat, 0]
def k0_off2357 (v1 : BitVec 32) (k0_t51 : Fin (k0_t51_loop v1).trips) (v228 : BitVec 32) (v257 : BitVec 32) (k0_t55 : Fin (k0_t55_loop v228 v257).trips) : Fin 5 → Nat :=
  let c0_908 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1559 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v1560 : Index := Scalar.indexCast arg19
  let c768 : Index := 768#32
  let c0_909 : Index := 0#32
  ![0, v1559.toNat, v1560.toNat, 768, 0]
def k0_off2358 (v330 : BitVec 32) : Fin 5 → Nat :=
  let c0_910 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1564 : Index := Scalar.indexCast v347
  let c48 : Index := 48#32
  let c0_911 : Index := 0#32
  let c0_912 : Index := 0#32
  ![0, v1564.toNat, 48, 0, 0]
def k0_off2359 (v1 : BitVec 32) (k0_t51 : Fin (k0_t51_loop v1).trips) (v228 : BitVec 32) (v257 : BitVec 32) (k0_t55 : Fin (k0_t55_loop v228 v257).trips) : Fin 5 → Nat :=
  let c0_915 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1581 : Index := Scalar.indexCast v226
  let c48_916 : Index := 48#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1582 : Index := Scalar.indexCast v382
  let c0_917 : Index := 0#32
  ![0, v1581.toNat, 48, v1582.toNat, 0]
def k0_off2360 (v330 : BitVec 32) : Fin 5 → Nat :=
  let c0_918 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1586 : Index := Scalar.indexCast v347
  let c49 : Index := 49#32
  let c0_919 : Index := 0#32
  let c0_920 : Index := 0#32
  ![0, v1586.toNat, 49, 0, 0]
def k0_off2361 (v1 : BitVec 32) (k0_t51 : Fin (k0_t51_loop v1).trips) (v228 : BitVec 32) (v257 : BitVec 32) (k0_t55 : Fin (k0_t55_loop v228 v257).trips) : Fin 5 → Nat :=
  let c0_923 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1603 : Index := Scalar.indexCast v226
  let c49_924 : Index := 49#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1604 : Index := Scalar.indexCast v382
  let c0_925 : Index := 0#32
  ![0, v1603.toNat, 49, v1604.toNat, 0]
def k0_off2362 (v1 : BitVec 32) (k0_t51 : Fin (k0_t51_loop v1).trips) (v228 : BitVec 32) (v257 : BitVec 32) (k0_t55 : Fin (k0_t55_loop v228 v257).trips) : Fin 5 → Nat :=
  let c0_926 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1608 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v1609 : Index := Scalar.indexCast arg19
  let c800 : Index := 800#32
  let c0_927 : Index := 0#32
  ![0, v1608.toNat, v1609.toNat, 800, 0]
def k0_off2363 (v330 : BitVec 32) : Fin 5 → Nat :=
  let c0_928 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1613 : Index := Scalar.indexCast v347
  let c50 : Index := 50#32
  let c0_929 : Index := 0#32
  let c0_930 : Index := 0#32
  ![0, v1613.toNat, 50, 0, 0]
def k0_off2364 (v1 : BitVec 32) (k0_t51 : Fin (k0_t51_loop v1).trips) (v228 : BitVec 32) (v257 : BitVec 32) (k0_t55 : Fin (k0_t55_loop v228 v257).trips) : Fin 5 → Nat :=
  let c0_933 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1630 : Index := Scalar.indexCast v226
  let c50_934 : Index := 50#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1631 : Index := Scalar.indexCast v382
  let c0_935 : Index := 0#32
  ![0, v1630.toNat, 50, v1631.toNat, 0]
def k0_off2365 (v330 : BitVec 32) : Fin 5 → Nat :=
  let c0_936 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1635 : Index := Scalar.indexCast v347
  let c51 : Index := 51#32
  let c0_937 : Index := 0#32
  let c0_938 : Index := 0#32
  ![0, v1635.toNat, 51, 0, 0]
def k0_off2366 (v1 : BitVec 32) (k0_t51 : Fin (k0_t51_loop v1).trips) (v228 : BitVec 32) (v257 : BitVec 32) (k0_t55 : Fin (k0_t55_loop v228 v257).trips) : Fin 5 → Nat :=
  let c0_941 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1652 : Index := Scalar.indexCast v226
  let c51_942 : Index := 51#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1653 : Index := Scalar.indexCast v382
  let c0_943 : Index := 0#32
  ![0, v1652.toNat, 51, v1653.toNat, 0]
def k0_off2367 (v1 : BitVec 32) (k0_t51 : Fin (k0_t51_loop v1).trips) (v228 : BitVec 32) (v257 : BitVec 32) (k0_t55 : Fin (k0_t55_loop v228 v257).trips) : Fin 5 → Nat :=
  let c0_944 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1657 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v1658 : Index := Scalar.indexCast arg19
  let c832 : Index := 832#32
  let c0_945 : Index := 0#32
  ![0, v1657.toNat, v1658.toNat, 832, 0]
def k0_off2368 (v330 : BitVec 32) : Fin 5 → Nat :=
  let c0_946 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1662 : Index := Scalar.indexCast v347
  let c52 : Index := 52#32
  let c0_947 : Index := 0#32
  let c0_948 : Index := 0#32
  ![0, v1662.toNat, 52, 0, 0]
def k0_off2369 (v1 : BitVec 32) (k0_t51 : Fin (k0_t51_loop v1).trips) (v228 : BitVec 32) (v257 : BitVec 32) (k0_t55 : Fin (k0_t55_loop v228 v257).trips) : Fin 5 → Nat :=
  let c0_951 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1679 : Index := Scalar.indexCast v226
  let c52_952 : Index := 52#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1680 : Index := Scalar.indexCast v382
  let c0_953 : Index := 0#32
  ![0, v1679.toNat, 52, v1680.toNat, 0]
def k0_off2370 (v330 : BitVec 32) : Fin 5 → Nat :=
  let c0_954 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1684 : Index := Scalar.indexCast v347
  let c53 : Index := 53#32
  let c0_955 : Index := 0#32
  let c0_956 : Index := 0#32
  ![0, v1684.toNat, 53, 0, 0]
def k0_off2371 (v1 : BitVec 32) (k0_t51 : Fin (k0_t51_loop v1).trips) (v228 : BitVec 32) (v257 : BitVec 32) (k0_t55 : Fin (k0_t55_loop v228 v257).trips) : Fin 5 → Nat :=
  let c0_959 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1701 : Index := Scalar.indexCast v226
  let c53_960 : Index := 53#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1702 : Index := Scalar.indexCast v382
  let c0_961 : Index := 0#32
  ![0, v1701.toNat, 53, v1702.toNat, 0]
def k0_off2372 (v1 : BitVec 32) (k0_t51 : Fin (k0_t51_loop v1).trips) (v228 : BitVec 32) (v257 : BitVec 32) (k0_t55 : Fin (k0_t55_loop v228 v257).trips) : Fin 5 → Nat :=
  let c0_962 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1706 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v1707 : Index := Scalar.indexCast arg19
  let c864 : Index := 864#32
  let c0_963 : Index := 0#32
  ![0, v1706.toNat, v1707.toNat, 864, 0]
def k0_off2373 (v330 : BitVec 32) : Fin 5 → Nat :=
  let c0_964 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1711 : Index := Scalar.indexCast v347
  let c54 : Index := 54#32
  let c0_965 : Index := 0#32
  let c0_966 : Index := 0#32
  ![0, v1711.toNat, 54, 0, 0]
def k0_off2374 (v1 : BitVec 32) (k0_t51 : Fin (k0_t51_loop v1).trips) (v228 : BitVec 32) (v257 : BitVec 32) (k0_t55 : Fin (k0_t55_loop v228 v257).trips) : Fin 5 → Nat :=
  let c0_969 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1728 : Index := Scalar.indexCast v226
  let c54_970 : Index := 54#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1729 : Index := Scalar.indexCast v382
  let c0_971 : Index := 0#32
  ![0, v1728.toNat, 54, v1729.toNat, 0]
def k0_off2375 (v330 : BitVec 32) : Fin 5 → Nat :=
  let c0_972 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1733 : Index := Scalar.indexCast v347
  let c55 : Index := 55#32
  let c0_973 : Index := 0#32
  let c0_974 : Index := 0#32
  ![0, v1733.toNat, 55, 0, 0]
def k0_off2376 (v1 : BitVec 32) (k0_t51 : Fin (k0_t51_loop v1).trips) (v228 : BitVec 32) (v257 : BitVec 32) (k0_t55 : Fin (k0_t55_loop v228 v257).trips) : Fin 5 → Nat :=
  let c0_977 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1750 : Index := Scalar.indexCast v226
  let c55_978 : Index := 55#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1751 : Index := Scalar.indexCast v382
  let c0_979 : Index := 0#32
  ![0, v1750.toNat, 55, v1751.toNat, 0]
def k0_off2377 (v1 : BitVec 32) (k0_t51 : Fin (k0_t51_loop v1).trips) (v228 : BitVec 32) (v257 : BitVec 32) (k0_t55 : Fin (k0_t55_loop v228 v257).trips) : Fin 5 → Nat :=
  let c0_980 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1755 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v1756 : Index := Scalar.indexCast arg19
  let c896 : Index := 896#32
  let c0_981 : Index := 0#32
  ![0, v1755.toNat, v1756.toNat, 896, 0]
def k0_off2378 (v330 : BitVec 32) : Fin 5 → Nat :=
  let c0_982 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1760 : Index := Scalar.indexCast v347
  let c56 : Index := 56#32
  let c0_983 : Index := 0#32
  let c0_984 : Index := 0#32
  ![0, v1760.toNat, 56, 0, 0]
def k0_off2379 (v1 : BitVec 32) (k0_t51 : Fin (k0_t51_loop v1).trips) (v228 : BitVec 32) (v257 : BitVec 32) (k0_t55 : Fin (k0_t55_loop v228 v257).trips) : Fin 5 → Nat :=
  let c0_987 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1777 : Index := Scalar.indexCast v226
  let c56_988 : Index := 56#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1778 : Index := Scalar.indexCast v382
  let c0_989 : Index := 0#32
  ![0, v1777.toNat, 56, v1778.toNat, 0]
def k0_off2380 (v330 : BitVec 32) : Fin 5 → Nat :=
  let c0_990 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1782 : Index := Scalar.indexCast v347
  let c57 : Index := 57#32
  let c0_991 : Index := 0#32
  let c0_992 : Index := 0#32
  ![0, v1782.toNat, 57, 0, 0]
def k0_off2381 (v1 : BitVec 32) (k0_t51 : Fin (k0_t51_loop v1).trips) (v228 : BitVec 32) (v257 : BitVec 32) (k0_t55 : Fin (k0_t55_loop v228 v257).trips) : Fin 5 → Nat :=
  let c0_995 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1799 : Index := Scalar.indexCast v226
  let c57_996 : Index := 57#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1800 : Index := Scalar.indexCast v382
  let c0_997 : Index := 0#32
  ![0, v1799.toNat, 57, v1800.toNat, 0]
def k0_off2382 (v1 : BitVec 32) (k0_t51 : Fin (k0_t51_loop v1).trips) (v228 : BitVec 32) (v257 : BitVec 32) (k0_t55 : Fin (k0_t55_loop v228 v257).trips) : Fin 5 → Nat :=
  let c0_998 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1804 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v1805 : Index := Scalar.indexCast arg19
  let c928 : Index := 928#32
  let c0_999 : Index := 0#32
  ![0, v1804.toNat, v1805.toNat, 928, 0]
def k0_off2383 (v330 : BitVec 32) : Fin 5 → Nat :=
  let c0_1000 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1809 : Index := Scalar.indexCast v347
  let c58 : Index := 58#32
  let c0_1001 : Index := 0#32
  let c0_1002 : Index := 0#32
  ![0, v1809.toNat, 58, 0, 0]
def k0_off2384 (v1 : BitVec 32) (k0_t51 : Fin (k0_t51_loop v1).trips) (v228 : BitVec 32) (v257 : BitVec 32) (k0_t55 : Fin (k0_t55_loop v228 v257).trips) : Fin 5 → Nat :=
  let c0_1005 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1826 : Index := Scalar.indexCast v226
  let c58_1006 : Index := 58#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1827 : Index := Scalar.indexCast v382
  let c0_1007 : Index := 0#32
  ![0, v1826.toNat, 58, v1827.toNat, 0]
def k0_off2385 (v330 : BitVec 32) : Fin 5 → Nat :=
  let c0_1008 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1831 : Index := Scalar.indexCast v347
  let c59 : Index := 59#32
  let c0_1009 : Index := 0#32
  let c0_1010 : Index := 0#32
  ![0, v1831.toNat, 59, 0, 0]
def k0_off2386 (v1 : BitVec 32) (k0_t51 : Fin (k0_t51_loop v1).trips) (v228 : BitVec 32) (v257 : BitVec 32) (k0_t55 : Fin (k0_t55_loop v228 v257).trips) : Fin 5 → Nat :=
  let c0_1013 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1848 : Index := Scalar.indexCast v226
  let c59_1014 : Index := 59#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1849 : Index := Scalar.indexCast v382
  let c0_1015 : Index := 0#32
  ![0, v1848.toNat, 59, v1849.toNat, 0]
def k0_off2387 (v1 : BitVec 32) (k0_t51 : Fin (k0_t51_loop v1).trips) (v228 : BitVec 32) (v257 : BitVec 32) (k0_t55 : Fin (k0_t55_loop v228 v257).trips) : Fin 5 → Nat :=
  let c0_1016 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1853 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v1854 : Index := Scalar.indexCast arg19
  let c960 : Index := 960#32
  let c0_1017 : Index := 0#32
  ![0, v1853.toNat, v1854.toNat, 960, 0]
def k0_off2388 (v330 : BitVec 32) : Fin 5 → Nat :=
  let c0_1018 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1858 : Index := Scalar.indexCast v347
  let c60 : Index := 60#32
  let c0_1019 : Index := 0#32
  let c0_1020 : Index := 0#32
  ![0, v1858.toNat, 60, 0, 0]
def k0_off2389 (v1 : BitVec 32) (k0_t51 : Fin (k0_t51_loop v1).trips) (v228 : BitVec 32) (v257 : BitVec 32) (k0_t55 : Fin (k0_t55_loop v228 v257).trips) : Fin 5 → Nat :=
  let c0_1023 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1875 : Index := Scalar.indexCast v226
  let c60_1024 : Index := 60#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1876 : Index := Scalar.indexCast v382
  let c0_1025 : Index := 0#32
  ![0, v1875.toNat, 60, v1876.toNat, 0]
def k0_off2390 (v330 : BitVec 32) : Fin 5 → Nat :=
  let c0_1026 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1880 : Index := Scalar.indexCast v347
  let c61 : Index := 61#32
  let c0_1027 : Index := 0#32
  let c0_1028 : Index := 0#32
  ![0, v1880.toNat, 61, 0, 0]
def k0_off2391 (v1 : BitVec 32) (k0_t51 : Fin (k0_t51_loop v1).trips) (v228 : BitVec 32) (v257 : BitVec 32) (k0_t55 : Fin (k0_t55_loop v228 v257).trips) : Fin 5 → Nat :=
  let c0_1031 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1897 : Index := Scalar.indexCast v226
  let c61_1032 : Index := 61#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1898 : Index := Scalar.indexCast v382
  let c0_1033 : Index := 0#32
  ![0, v1897.toNat, 61, v1898.toNat, 0]
def k0_off2392 (v1 : BitVec 32) (k0_t51 : Fin (k0_t51_loop v1).trips) (v228 : BitVec 32) (v257 : BitVec 32) (k0_t55 : Fin (k0_t55_loop v228 v257).trips) : Fin 5 → Nat :=
  let c0_1034 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1902 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v1903 : Index := Scalar.indexCast arg19
  let c992 : Index := 992#32
  let c0_1035 : Index := 0#32
  ![0, v1902.toNat, v1903.toNat, 992, 0]
def k0_off2393 (v330 : BitVec 32) : Fin 5 → Nat :=
  let c0_1036 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1907 : Index := Scalar.indexCast v347
  let c62 : Index := 62#32
  let c0_1037 : Index := 0#32
  let c0_1038 : Index := 0#32
  ![0, v1907.toNat, 62, 0, 0]
def k0_off2394 (v1 : BitVec 32) (k0_t51 : Fin (k0_t51_loop v1).trips) (v228 : BitVec 32) (v257 : BitVec 32) (k0_t55 : Fin (k0_t55_loop v228 v257).trips) : Fin 5 → Nat :=
  let c0_1041 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1924 : Index := Scalar.indexCast v226
  let c62_1042 : Index := 62#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1925 : Index := Scalar.indexCast v382
  let c0_1043 : Index := 0#32
  ![0, v1924.toNat, 62, v1925.toNat, 0]
def k0_off2395 (v330 : BitVec 32) : Fin 5 → Nat :=
  let c0_1044 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1929 : Index := Scalar.indexCast v347
  let c63 : Index := 63#32
  let c0_1045 : Index := 0#32
  let c0_1046 : Index := 0#32
  ![0, v1929.toNat, 63, 0, 0]
def k0_off2396 (v1 : BitVec 32) (k0_t51 : Fin (k0_t51_loop v1).trips) (v228 : BitVec 32) (v257 : BitVec 32) (k0_t55 : Fin (k0_t55_loop v228 v257).trips) : Fin 5 → Nat :=
  let c0_1049 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1946 : Index := Scalar.indexCast v226
  let c63_1050 : Index := 63#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1947 : Index := Scalar.indexCast v382
  let c0_1051 : Index := 0#32
  ![0, v1946.toNat, 63, v1947.toNat, 0]
def k0_off2397 (v1 : BitVec 32) (k0_t51 : Fin (k0_t51_loop v1).trips) (v228 : BitVec 32) (v257 : BitVec 32) (k0_t55 : Fin (k0_t55_loop v228 v257).trips) : Fin 5 → Nat :=
  let c0_1052 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1951 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v1952 : Index := Scalar.indexCast arg19
  let c1024 : Index := 1024#32
  let c0_1053 : Index := 0#32
  ![0, v1951.toNat, v1952.toNat, 1024, 0]
def k0_off2398 (v330 : BitVec 32) : Fin 5 → Nat :=
  let c0_1054 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1956 : Index := Scalar.indexCast v347
  let c64_1055 : Index := 64#32
  let c0_1056 : Index := 0#32
  let c0_1057 : Index := 0#32
  ![0, v1956.toNat, 64, 0, 0]
def k0_off2399 (v1 : BitVec 32) (k0_t51 : Fin (k0_t51_loop v1).trips) (v228 : BitVec 32) (v257 : BitVec 32) (k0_t55 : Fin (k0_t55_loop v228 v257).trips) : Fin 5 → Nat :=
  let c0_1060 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1973 : Index := Scalar.indexCast v226
  let c64_1061 : Index := 64#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1974 : Index := Scalar.indexCast v382
  let c0_1062 : Index := 0#32
  ![0, v1973.toNat, 64, v1974.toNat, 0]
def k0_off2400 (v330 : BitVec 32) : Fin 5 → Nat :=
  let c0_1063 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1978 : Index := Scalar.indexCast v347
  let c65 : Index := 65#32
  let c0_1064 : Index := 0#32
  let c0_1065 : Index := 0#32
  ![0, v1978.toNat, 65, 0, 0]
def k0_off2401 (v1 : BitVec 32) (k0_t51 : Fin (k0_t51_loop v1).trips) (v228 : BitVec 32) (v257 : BitVec 32) (k0_t55 : Fin (k0_t55_loop v228 v257).trips) : Fin 5 → Nat :=
  let c0_1068 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1995 : Index := Scalar.indexCast v226
  let c65_1069 : Index := 65#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v1996 : Index := Scalar.indexCast v382
  let c0_1070 : Index := 0#32
  ![0, v1995.toNat, 65, v1996.toNat, 0]
def k0_off2402 (v1 : BitVec 32) (k0_t51 : Fin (k0_t51_loop v1).trips) (v228 : BitVec 32) (v257 : BitVec 32) (k0_t55 : Fin (k0_t55_loop v228 v257).trips) : Fin 5 → Nat :=
  let c0_1071 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2000 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v2001 : Index := Scalar.indexCast arg19
  let c1056 : Index := 1056#32
  let c0_1072 : Index := 0#32
  ![0, v2000.toNat, v2001.toNat, 1056, 0]
def k0_off2403 (v330 : BitVec 32) : Fin 5 → Nat :=
  let c0_1073 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2005 : Index := Scalar.indexCast v347
  let c66 : Index := 66#32
  let c0_1074 : Index := 0#32
  let c0_1075 : Index := 0#32
  ![0, v2005.toNat, 66, 0, 0]
def k0_off2404 (v1 : BitVec 32) (k0_t51 : Fin (k0_t51_loop v1).trips) (v228 : BitVec 32) (v257 : BitVec 32) (k0_t55 : Fin (k0_t55_loop v228 v257).trips) : Fin 5 → Nat :=
  let c0_1078 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2022 : Index := Scalar.indexCast v226
  let c66_1079 : Index := 66#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2023 : Index := Scalar.indexCast v382
  let c0_1080 : Index := 0#32
  ![0, v2022.toNat, 66, v2023.toNat, 0]
def k0_off2405 (v330 : BitVec 32) : Fin 5 → Nat :=
  let c0_1081 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2027 : Index := Scalar.indexCast v347
  let c67 : Index := 67#32
  let c0_1082 : Index := 0#32
  let c0_1083 : Index := 0#32
  ![0, v2027.toNat, 67, 0, 0]
def k0_off2406 (v1 : BitVec 32) (k0_t51 : Fin (k0_t51_loop v1).trips) (v228 : BitVec 32) (v257 : BitVec 32) (k0_t55 : Fin (k0_t55_loop v228 v257).trips) : Fin 5 → Nat :=
  let c0_1086 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2044 : Index := Scalar.indexCast v226
  let c67_1087 : Index := 67#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2045 : Index := Scalar.indexCast v382
  let c0_1088 : Index := 0#32
  ![0, v2044.toNat, 67, v2045.toNat, 0]
def k0_off2407 (v1 : BitVec 32) (k0_t51 : Fin (k0_t51_loop v1).trips) (v228 : BitVec 32) (v257 : BitVec 32) (k0_t55 : Fin (k0_t55_loop v228 v257).trips) : Fin 5 → Nat :=
  let c0_1089 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2049 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v2050 : Index := Scalar.indexCast arg19
  let c1088 : Index := 1088#32
  let c0_1090 : Index := 0#32
  ![0, v2049.toNat, v2050.toNat, 1088, 0]
def k0_off2408 (v330 : BitVec 32) : Fin 5 → Nat :=
  let c0_1091 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2054 : Index := Scalar.indexCast v347
  let c68 : Index := 68#32
  let c0_1092 : Index := 0#32
  let c0_1093 : Index := 0#32
  ![0, v2054.toNat, 68, 0, 0]
def k0_off2409 (v1 : BitVec 32) (k0_t51 : Fin (k0_t51_loop v1).trips) (v228 : BitVec 32) (v257 : BitVec 32) (k0_t55 : Fin (k0_t55_loop v228 v257).trips) : Fin 5 → Nat :=
  let c0_1096 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2071 : Index := Scalar.indexCast v226
  let c68_1097 : Index := 68#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2072 : Index := Scalar.indexCast v382
  let c0_1098 : Index := 0#32
  ![0, v2071.toNat, 68, v2072.toNat, 0]
def k0_off2410 (v330 : BitVec 32) : Fin 5 → Nat :=
  let c0_1099 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2076 : Index := Scalar.indexCast v347
  let c69 : Index := 69#32
  let c0_1100 : Index := 0#32
  let c0_1101 : Index := 0#32
  ![0, v2076.toNat, 69, 0, 0]
def k0_off2411 (v1 : BitVec 32) (k0_t51 : Fin (k0_t51_loop v1).trips) (v228 : BitVec 32) (v257 : BitVec 32) (k0_t55 : Fin (k0_t55_loop v228 v257).trips) : Fin 5 → Nat :=
  let c0_1104 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2093 : Index := Scalar.indexCast v226
  let c69_1105 : Index := 69#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2094 : Index := Scalar.indexCast v382
  let c0_1106 : Index := 0#32
  ![0, v2093.toNat, 69, v2094.toNat, 0]
def k0_off2412 (v1 : BitVec 32) (k0_t51 : Fin (k0_t51_loop v1).trips) (v228 : BitVec 32) (v257 : BitVec 32) (k0_t55 : Fin (k0_t55_loop v228 v257).trips) : Fin 5 → Nat :=
  let c0_1107 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2098 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v2099 : Index := Scalar.indexCast arg19
  let c1120 : Index := 1120#32
  let c0_1108 : Index := 0#32
  ![0, v2098.toNat, v2099.toNat, 1120, 0]
def k0_off2413 (v330 : BitVec 32) : Fin 5 → Nat :=
  let c0_1109 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2103 : Index := Scalar.indexCast v347
  let c70 : Index := 70#32
  let c0_1110 : Index := 0#32
  let c0_1111 : Index := 0#32
  ![0, v2103.toNat, 70, 0, 0]
def k0_off2414 (v1 : BitVec 32) (k0_t51 : Fin (k0_t51_loop v1).trips) (v228 : BitVec 32) (v257 : BitVec 32) (k0_t55 : Fin (k0_t55_loop v228 v257).trips) : Fin 5 → Nat :=
  let c0_1114 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2120 : Index := Scalar.indexCast v226
  let c70_1115 : Index := 70#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2121 : Index := Scalar.indexCast v382
  let c0_1116 : Index := 0#32
  ![0, v2120.toNat, 70, v2121.toNat, 0]
def k0_off2415 (v330 : BitVec 32) : Fin 5 → Nat :=
  let c0_1117 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2125 : Index := Scalar.indexCast v347
  let c71 : Index := 71#32
  let c0_1118 : Index := 0#32
  let c0_1119 : Index := 0#32
  ![0, v2125.toNat, 71, 0, 0]
def k0_off2416 (v1 : BitVec 32) (k0_t51 : Fin (k0_t51_loop v1).trips) (v228 : BitVec 32) (v257 : BitVec 32) (k0_t55 : Fin (k0_t55_loop v228 v257).trips) : Fin 5 → Nat :=
  let c0_1122 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2142 : Index := Scalar.indexCast v226
  let c71_1123 : Index := 71#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2143 : Index := Scalar.indexCast v382
  let c0_1124 : Index := 0#32
  ![0, v2142.toNat, 71, v2143.toNat, 0]
def k0_off2417 (v1 : BitVec 32) (k0_t51 : Fin (k0_t51_loop v1).trips) (v228 : BitVec 32) (v257 : BitVec 32) (k0_t55 : Fin (k0_t55_loop v228 v257).trips) : Fin 5 → Nat :=
  let c0_1125 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2147 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v2148 : Index := Scalar.indexCast arg19
  let c1152 : Index := 1152#32
  let c0_1126 : Index := 0#32
  ![0, v2147.toNat, v2148.toNat, 1152, 0]
def k0_off2418 (v330 : BitVec 32) : Fin 5 → Nat :=
  let c0_1127 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2152 : Index := Scalar.indexCast v347
  let c72 : Index := 72#32
  let c0_1128 : Index := 0#32
  let c0_1129 : Index := 0#32
  ![0, v2152.toNat, 72, 0, 0]
def k0_off2419 (v1 : BitVec 32) (k0_t51 : Fin (k0_t51_loop v1).trips) (v228 : BitVec 32) (v257 : BitVec 32) (k0_t55 : Fin (k0_t55_loop v228 v257).trips) : Fin 5 → Nat :=
  let c0_1132 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2169 : Index := Scalar.indexCast v226
  let c72_1133 : Index := 72#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2170 : Index := Scalar.indexCast v382
  let c0_1134 : Index := 0#32
  ![0, v2169.toNat, 72, v2170.toNat, 0]
def k0_off2420 (v330 : BitVec 32) : Fin 5 → Nat :=
  let c0_1135 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2174 : Index := Scalar.indexCast v347
  let c73 : Index := 73#32
  let c0_1136 : Index := 0#32
  let c0_1137 : Index := 0#32
  ![0, v2174.toNat, 73, 0, 0]
def k0_off2421 (v1 : BitVec 32) (k0_t51 : Fin (k0_t51_loop v1).trips) (v228 : BitVec 32) (v257 : BitVec 32) (k0_t55 : Fin (k0_t55_loop v228 v257).trips) : Fin 5 → Nat :=
  let c0_1140 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2191 : Index := Scalar.indexCast v226
  let c73_1141 : Index := 73#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2192 : Index := Scalar.indexCast v382
  let c0_1142 : Index := 0#32
  ![0, v2191.toNat, 73, v2192.toNat, 0]
def k0_off2422 (v1 : BitVec 32) (k0_t51 : Fin (k0_t51_loop v1).trips) (v228 : BitVec 32) (v257 : BitVec 32) (k0_t55 : Fin (k0_t55_loop v228 v257).trips) : Fin 5 → Nat :=
  let c0_1143 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2196 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v2197 : Index := Scalar.indexCast arg19
  let c1184 : Index := 1184#32
  let c0_1144 : Index := 0#32
  ![0, v2196.toNat, v2197.toNat, 1184, 0]
def k0_off2423 (v330 : BitVec 32) : Fin 5 → Nat :=
  let c0_1145 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2201 : Index := Scalar.indexCast v347
  let c74 : Index := 74#32
  let c0_1146 : Index := 0#32
  let c0_1147 : Index := 0#32
  ![0, v2201.toNat, 74, 0, 0]
def k0_off2424 (v1 : BitVec 32) (k0_t51 : Fin (k0_t51_loop v1).trips) (v228 : BitVec 32) (v257 : BitVec 32) (k0_t55 : Fin (k0_t55_loop v228 v257).trips) : Fin 5 → Nat :=
  let c0_1150 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2218 : Index := Scalar.indexCast v226
  let c74_1151 : Index := 74#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2219 : Index := Scalar.indexCast v382
  let c0_1152 : Index := 0#32
  ![0, v2218.toNat, 74, v2219.toNat, 0]
def k0_off2425 (v330 : BitVec 32) : Fin 5 → Nat :=
  let c0_1153 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2223 : Index := Scalar.indexCast v347
  let c75 : Index := 75#32
  let c0_1154 : Index := 0#32
  let c0_1155 : Index := 0#32
  ![0, v2223.toNat, 75, 0, 0]
def k0_off2426 (v1 : BitVec 32) (k0_t51 : Fin (k0_t51_loop v1).trips) (v228 : BitVec 32) (v257 : BitVec 32) (k0_t55 : Fin (k0_t55_loop v228 v257).trips) : Fin 5 → Nat :=
  let c0_1158 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2240 : Index := Scalar.indexCast v226
  let c75_1159 : Index := 75#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2241 : Index := Scalar.indexCast v382
  let c0_1160 : Index := 0#32
  ![0, v2240.toNat, 75, v2241.toNat, 0]
def k0_off2427 (v1 : BitVec 32) (k0_t51 : Fin (k0_t51_loop v1).trips) (v228 : BitVec 32) (v257 : BitVec 32) (k0_t55 : Fin (k0_t55_loop v228 v257).trips) : Fin 5 → Nat :=
  let c0_1161 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2245 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v2246 : Index := Scalar.indexCast arg19
  let c1216 : Index := 1216#32
  let c0_1162 : Index := 0#32
  ![0, v2245.toNat, v2246.toNat, 1216, 0]
def k0_off2428 (v330 : BitVec 32) : Fin 5 → Nat :=
  let c0_1163 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2250 : Index := Scalar.indexCast v347
  let c76 : Index := 76#32
  let c0_1164 : Index := 0#32
  let c0_1165 : Index := 0#32
  ![0, v2250.toNat, 76, 0, 0]
def k0_off2429 (v1 : BitVec 32) (k0_t51 : Fin (k0_t51_loop v1).trips) (v228 : BitVec 32) (v257 : BitVec 32) (k0_t55 : Fin (k0_t55_loop v228 v257).trips) : Fin 5 → Nat :=
  let c0_1168 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2267 : Index := Scalar.indexCast v226
  let c76_1169 : Index := 76#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2268 : Index := Scalar.indexCast v382
  let c0_1170 : Index := 0#32
  ![0, v2267.toNat, 76, v2268.toNat, 0]
def k0_off2430 (v330 : BitVec 32) : Fin 5 → Nat :=
  let c0_1171 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2272 : Index := Scalar.indexCast v347
  let c77 : Index := 77#32
  let c0_1172 : Index := 0#32
  let c0_1173 : Index := 0#32
  ![0, v2272.toNat, 77, 0, 0]
def k0_off2431 (v1 : BitVec 32) (k0_t51 : Fin (k0_t51_loop v1).trips) (v228 : BitVec 32) (v257 : BitVec 32) (k0_t55 : Fin (k0_t55_loop v228 v257).trips) : Fin 5 → Nat :=
  let c0_1176 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2289 : Index := Scalar.indexCast v226
  let c77_1177 : Index := 77#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2290 : Index := Scalar.indexCast v382
  let c0_1178 : Index := 0#32
  ![0, v2289.toNat, 77, v2290.toNat, 0]
def k0_off2432 (v1 : BitVec 32) (k0_t51 : Fin (k0_t51_loop v1).trips) (v228 : BitVec 32) (v257 : BitVec 32) (k0_t55 : Fin (k0_t55_loop v228 v257).trips) : Fin 5 → Nat :=
  let c0_1179 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2294 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v2295 : Index := Scalar.indexCast arg19
  let c1248 : Index := 1248#32
  let c0_1180 : Index := 0#32
  ![0, v2294.toNat, v2295.toNat, 1248, 0]
def k0_off2433 (v330 : BitVec 32) : Fin 5 → Nat :=
  let c0_1181 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2299 : Index := Scalar.indexCast v347
  let c78 : Index := 78#32
  let c0_1182 : Index := 0#32
  let c0_1183 : Index := 0#32
  ![0, v2299.toNat, 78, 0, 0]
def k0_off2434 (v1 : BitVec 32) (k0_t51 : Fin (k0_t51_loop v1).trips) (v228 : BitVec 32) (v257 : BitVec 32) (k0_t55 : Fin (k0_t55_loop v228 v257).trips) : Fin 5 → Nat :=
  let c0_1186 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2316 : Index := Scalar.indexCast v226
  let c78_1187 : Index := 78#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2317 : Index := Scalar.indexCast v382
  let c0_1188 : Index := 0#32
  ![0, v2316.toNat, 78, v2317.toNat, 0]
def k0_off2435 (v330 : BitVec 32) : Fin 5 → Nat :=
  let c0_1189 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2321 : Index := Scalar.indexCast v347
  let c79 : Index := 79#32
  let c0_1190 : Index := 0#32
  let c0_1191 : Index := 0#32
  ![0, v2321.toNat, 79, 0, 0]
def k0_off2436 (v1 : BitVec 32) (k0_t51 : Fin (k0_t51_loop v1).trips) (v228 : BitVec 32) (v257 : BitVec 32) (k0_t55 : Fin (k0_t55_loop v228 v257).trips) : Fin 5 → Nat :=
  let c0_1194 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2338 : Index := Scalar.indexCast v226
  let c79_1195 : Index := 79#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2339 : Index := Scalar.indexCast v382
  let c0_1196 : Index := 0#32
  ![0, v2338.toNat, 79, v2339.toNat, 0]
def k0_off2437 (v1 : BitVec 32) (k0_t51 : Fin (k0_t51_loop v1).trips) (v228 : BitVec 32) (v257 : BitVec 32) (k0_t55 : Fin (k0_t55_loop v228 v257).trips) : Fin 5 → Nat :=
  let c0_1197 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2343 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v2344 : Index := Scalar.indexCast arg19
  let c1280 : Index := 1280#32
  let c0_1198 : Index := 0#32
  ![0, v2343.toNat, v2344.toNat, 1280, 0]
def k0_off2438 (v330 : BitVec 32) : Fin 5 → Nat :=
  let c0_1199 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2348 : Index := Scalar.indexCast v347
  let c80 : Index := 80#32
  let c0_1200 : Index := 0#32
  let c0_1201 : Index := 0#32
  ![0, v2348.toNat, 80, 0, 0]
def k0_off2439 (v1 : BitVec 32) (k0_t51 : Fin (k0_t51_loop v1).trips) (v228 : BitVec 32) (v257 : BitVec 32) (k0_t55 : Fin (k0_t55_loop v228 v257).trips) : Fin 5 → Nat :=
  let c0_1204 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2365 : Index := Scalar.indexCast v226
  let c80_1205 : Index := 80#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2366 : Index := Scalar.indexCast v382
  let c0_1206 : Index := 0#32
  ![0, v2365.toNat, 80, v2366.toNat, 0]
def k0_off2440 (v330 : BitVec 32) : Fin 5 → Nat :=
  let c0_1207 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2370 : Index := Scalar.indexCast v347
  let c81 : Index := 81#32
  let c0_1208 : Index := 0#32
  let c0_1209 : Index := 0#32
  ![0, v2370.toNat, 81, 0, 0]
def k0_off2441 (v1 : BitVec 32) (k0_t51 : Fin (k0_t51_loop v1).trips) (v228 : BitVec 32) (v257 : BitVec 32) (k0_t55 : Fin (k0_t55_loop v228 v257).trips) : Fin 5 → Nat :=
  let c0_1212 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2387 : Index := Scalar.indexCast v226
  let c81_1213 : Index := 81#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2388 : Index := Scalar.indexCast v382
  let c0_1214 : Index := 0#32
  ![0, v2387.toNat, 81, v2388.toNat, 0]
def k0_off2442 (v1 : BitVec 32) (k0_t51 : Fin (k0_t51_loop v1).trips) (v228 : BitVec 32) (v257 : BitVec 32) (k0_t55 : Fin (k0_t55_loop v228 v257).trips) : Fin 5 → Nat :=
  let c0_1215 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2392 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v2393 : Index := Scalar.indexCast arg19
  let c1312 : Index := 1312#32
  let c0_1216 : Index := 0#32
  ![0, v2392.toNat, v2393.toNat, 1312, 0]
def k0_off2443 (v330 : BitVec 32) : Fin 5 → Nat :=
  let c0_1217 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2397 : Index := Scalar.indexCast v347
  let c82 : Index := 82#32
  let c0_1218 : Index := 0#32
  let c0_1219 : Index := 0#32
  ![0, v2397.toNat, 82, 0, 0]
def k0_off2444 (v1 : BitVec 32) (k0_t51 : Fin (k0_t51_loop v1).trips) (v228 : BitVec 32) (v257 : BitVec 32) (k0_t55 : Fin (k0_t55_loop v228 v257).trips) : Fin 5 → Nat :=
  let c0_1222 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2414 : Index := Scalar.indexCast v226
  let c82_1223 : Index := 82#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2415 : Index := Scalar.indexCast v382
  let c0_1224 : Index := 0#32
  ![0, v2414.toNat, 82, v2415.toNat, 0]
def k0_off2445 (v330 : BitVec 32) : Fin 5 → Nat :=
  let c0_1225 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2419 : Index := Scalar.indexCast v347
  let c83 : Index := 83#32
  let c0_1226 : Index := 0#32
  let c0_1227 : Index := 0#32
  ![0, v2419.toNat, 83, 0, 0]
def k0_off2446 (v1 : BitVec 32) (k0_t51 : Fin (k0_t51_loop v1).trips) (v228 : BitVec 32) (v257 : BitVec 32) (k0_t55 : Fin (k0_t55_loop v228 v257).trips) : Fin 5 → Nat :=
  let c0_1230 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2436 : Index := Scalar.indexCast v226
  let c83_1231 : Index := 83#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2437 : Index := Scalar.indexCast v382
  let c0_1232 : Index := 0#32
  ![0, v2436.toNat, 83, v2437.toNat, 0]
def k0_off2447 (v1 : BitVec 32) (k0_t51 : Fin (k0_t51_loop v1).trips) (v228 : BitVec 32) (v257 : BitVec 32) (k0_t55 : Fin (k0_t55_loop v228 v257).trips) : Fin 5 → Nat :=
  let c0_1233 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2441 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v2442 : Index := Scalar.indexCast arg19
  let c1344 : Index := 1344#32
  let c0_1234 : Index := 0#32
  ![0, v2441.toNat, v2442.toNat, 1344, 0]
def k0_off2448 (v330 : BitVec 32) : Fin 5 → Nat :=
  let c0_1235 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2446 : Index := Scalar.indexCast v347
  let c84 : Index := 84#32
  let c0_1236 : Index := 0#32
  let c0_1237 : Index := 0#32
  ![0, v2446.toNat, 84, 0, 0]
def k0_off2449 (v1 : BitVec 32) (k0_t51 : Fin (k0_t51_loop v1).trips) (v228 : BitVec 32) (v257 : BitVec 32) (k0_t55 : Fin (k0_t55_loop v228 v257).trips) : Fin 5 → Nat :=
  let c0_1240 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2463 : Index := Scalar.indexCast v226
  let c84_1241 : Index := 84#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2464 : Index := Scalar.indexCast v382
  let c0_1242 : Index := 0#32
  ![0, v2463.toNat, 84, v2464.toNat, 0]
def k0_off2450 (v330 : BitVec 32) : Fin 5 → Nat :=
  let c0_1243 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2468 : Index := Scalar.indexCast v347
  let c85 : Index := 85#32
  let c0_1244 : Index := 0#32
  let c0_1245 : Index := 0#32
  ![0, v2468.toNat, 85, 0, 0]
def k0_off2451 (v1 : BitVec 32) (k0_t51 : Fin (k0_t51_loop v1).trips) (v228 : BitVec 32) (v257 : BitVec 32) (k0_t55 : Fin (k0_t55_loop v228 v257).trips) : Fin 5 → Nat :=
  let c0_1248 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2485 : Index := Scalar.indexCast v226
  let c85_1249 : Index := 85#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2486 : Index := Scalar.indexCast v382
  let c0_1250 : Index := 0#32
  ![0, v2485.toNat, 85, v2486.toNat, 0]
def k0_off2452 (v1 : BitVec 32) (k0_t51 : Fin (k0_t51_loop v1).trips) (v228 : BitVec 32) (v257 : BitVec 32) (k0_t55 : Fin (k0_t55_loop v228 v257).trips) : Fin 5 → Nat :=
  let c0_1251 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2490 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v2491 : Index := Scalar.indexCast arg19
  let c1376 : Index := 1376#32
  let c0_1252 : Index := 0#32
  ![0, v2490.toNat, v2491.toNat, 1376, 0]
def k0_off2453 (v330 : BitVec 32) : Fin 5 → Nat :=
  let c0_1253 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2495 : Index := Scalar.indexCast v347
  let c86 : Index := 86#32
  let c0_1254 : Index := 0#32
  let c0_1255 : Index := 0#32
  ![0, v2495.toNat, 86, 0, 0]
def k0_off2454 (v1 : BitVec 32) (k0_t51 : Fin (k0_t51_loop v1).trips) (v228 : BitVec 32) (v257 : BitVec 32) (k0_t55 : Fin (k0_t55_loop v228 v257).trips) : Fin 5 → Nat :=
  let c0_1258 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2512 : Index := Scalar.indexCast v226
  let c86_1259 : Index := 86#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2513 : Index := Scalar.indexCast v382
  let c0_1260 : Index := 0#32
  ![0, v2512.toNat, 86, v2513.toNat, 0]
def k0_off2455 (v330 : BitVec 32) : Fin 5 → Nat :=
  let c0_1261 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2517 : Index := Scalar.indexCast v347
  let c87 : Index := 87#32
  let c0_1262 : Index := 0#32
  let c0_1263 : Index := 0#32
  ![0, v2517.toNat, 87, 0, 0]
def k0_off2456 (v1 : BitVec 32) (k0_t51 : Fin (k0_t51_loop v1).trips) (v228 : BitVec 32) (v257 : BitVec 32) (k0_t55 : Fin (k0_t55_loop v228 v257).trips) : Fin 5 → Nat :=
  let c0_1266 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2534 : Index := Scalar.indexCast v226
  let c87_1267 : Index := 87#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2535 : Index := Scalar.indexCast v382
  let c0_1268 : Index := 0#32
  ![0, v2534.toNat, 87, v2535.toNat, 0]
def k0_off2457 (v1 : BitVec 32) (k0_t51 : Fin (k0_t51_loop v1).trips) (v228 : BitVec 32) (v257 : BitVec 32) (k0_t55 : Fin (k0_t55_loop v228 v257).trips) : Fin 5 → Nat :=
  let c0_1269 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2539 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v2540 : Index := Scalar.indexCast arg19
  let c1408 : Index := 1408#32
  let c0_1270 : Index := 0#32
  ![0, v2539.toNat, v2540.toNat, 1408, 0]
def k0_off2458 (v330 : BitVec 32) : Fin 5 → Nat :=
  let c0_1271 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2544 : Index := Scalar.indexCast v347
  let c88 : Index := 88#32
  let c0_1272 : Index := 0#32
  let c0_1273 : Index := 0#32
  ![0, v2544.toNat, 88, 0, 0]
def k0_off2459 (v1 : BitVec 32) (k0_t51 : Fin (k0_t51_loop v1).trips) (v228 : BitVec 32) (v257 : BitVec 32) (k0_t55 : Fin (k0_t55_loop v228 v257).trips) : Fin 5 → Nat :=
  let c0_1276 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2561 : Index := Scalar.indexCast v226
  let c88_1277 : Index := 88#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2562 : Index := Scalar.indexCast v382
  let c0_1278 : Index := 0#32
  ![0, v2561.toNat, 88, v2562.toNat, 0]
def k0_off2460 (v330 : BitVec 32) : Fin 5 → Nat :=
  let c0_1279 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2566 : Index := Scalar.indexCast v347
  let c89 : Index := 89#32
  let c0_1280 : Index := 0#32
  let c0_1281 : Index := 0#32
  ![0, v2566.toNat, 89, 0, 0]
def k0_off2461 (v1 : BitVec 32) (k0_t51 : Fin (k0_t51_loop v1).trips) (v228 : BitVec 32) (v257 : BitVec 32) (k0_t55 : Fin (k0_t55_loop v228 v257).trips) : Fin 5 → Nat :=
  let c0_1284 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2583 : Index := Scalar.indexCast v226
  let c89_1285 : Index := 89#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2584 : Index := Scalar.indexCast v382
  let c0_1286 : Index := 0#32
  ![0, v2583.toNat, 89, v2584.toNat, 0]
def k0_off2462 (v1 : BitVec 32) (k0_t51 : Fin (k0_t51_loop v1).trips) (v228 : BitVec 32) (v257 : BitVec 32) (k0_t55 : Fin (k0_t55_loop v228 v257).trips) : Fin 5 → Nat :=
  let c0_1287 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2588 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v2589 : Index := Scalar.indexCast arg19
  let c1440 : Index := 1440#32
  let c0_1288 : Index := 0#32
  ![0, v2588.toNat, v2589.toNat, 1440, 0]
def k0_off2463 (v330 : BitVec 32) : Fin 5 → Nat :=
  let c0_1289 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2593 : Index := Scalar.indexCast v347
  let c90 : Index := 90#32
  let c0_1290 : Index := 0#32
  let c0_1291 : Index := 0#32
  ![0, v2593.toNat, 90, 0, 0]
def k0_off2464 (v1 : BitVec 32) (k0_t51 : Fin (k0_t51_loop v1).trips) (v228 : BitVec 32) (v257 : BitVec 32) (k0_t55 : Fin (k0_t55_loop v228 v257).trips) : Fin 5 → Nat :=
  let c0_1294 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2610 : Index := Scalar.indexCast v226
  let c90_1295 : Index := 90#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2611 : Index := Scalar.indexCast v382
  let c0_1296 : Index := 0#32
  ![0, v2610.toNat, 90, v2611.toNat, 0]
def k0_off2465 (v330 : BitVec 32) : Fin 5 → Nat :=
  let c0_1297 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2615 : Index := Scalar.indexCast v347
  let c91 : Index := 91#32
  let c0_1298 : Index := 0#32
  let c0_1299 : Index := 0#32
  ![0, v2615.toNat, 91, 0, 0]
def k0_off2466 (v1 : BitVec 32) (k0_t51 : Fin (k0_t51_loop v1).trips) (v228 : BitVec 32) (v257 : BitVec 32) (k0_t55 : Fin (k0_t55_loop v228 v257).trips) : Fin 5 → Nat :=
  let c0_1302 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2632 : Index := Scalar.indexCast v226
  let c91_1303 : Index := 91#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2633 : Index := Scalar.indexCast v382
  let c0_1304 : Index := 0#32
  ![0, v2632.toNat, 91, v2633.toNat, 0]
def k0_off2467 (v1 : BitVec 32) (k0_t51 : Fin (k0_t51_loop v1).trips) (v228 : BitVec 32) (v257 : BitVec 32) (k0_t55 : Fin (k0_t55_loop v228 v257).trips) : Fin 5 → Nat :=
  let c0_1305 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2637 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v2638 : Index := Scalar.indexCast arg19
  let c1472 : Index := 1472#32
  let c0_1306 : Index := 0#32
  ![0, v2637.toNat, v2638.toNat, 1472, 0]
def k0_off2468 (v330 : BitVec 32) : Fin 5 → Nat :=
  let c0_1307 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2642 : Index := Scalar.indexCast v347
  let c92 : Index := 92#32
  let c0_1308 : Index := 0#32
  let c0_1309 : Index := 0#32
  ![0, v2642.toNat, 92, 0, 0]
def k0_off2469 (v1 : BitVec 32) (k0_t51 : Fin (k0_t51_loop v1).trips) (v228 : BitVec 32) (v257 : BitVec 32) (k0_t55 : Fin (k0_t55_loop v228 v257).trips) : Fin 5 → Nat :=
  let c0_1312 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2659 : Index := Scalar.indexCast v226
  let c92_1313 : Index := 92#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2660 : Index := Scalar.indexCast v382
  let c0_1314 : Index := 0#32
  ![0, v2659.toNat, 92, v2660.toNat, 0]
def k0_off2470 (v330 : BitVec 32) : Fin 5 → Nat :=
  let c0_1315 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2664 : Index := Scalar.indexCast v347
  let c93 : Index := 93#32
  let c0_1316 : Index := 0#32
  let c0_1317 : Index := 0#32
  ![0, v2664.toNat, 93, 0, 0]
def k0_off2471 (v1 : BitVec 32) (k0_t51 : Fin (k0_t51_loop v1).trips) (v228 : BitVec 32) (v257 : BitVec 32) (k0_t55 : Fin (k0_t55_loop v228 v257).trips) : Fin 5 → Nat :=
  let c0_1320 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2681 : Index := Scalar.indexCast v226
  let c93_1321 : Index := 93#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2682 : Index := Scalar.indexCast v382
  let c0_1322 : Index := 0#32
  ![0, v2681.toNat, 93, v2682.toNat, 0]
def k0_off2472 (v1 : BitVec 32) (k0_t51 : Fin (k0_t51_loop v1).trips) (v228 : BitVec 32) (v257 : BitVec 32) (k0_t55 : Fin (k0_t55_loop v228 v257).trips) : Fin 5 → Nat :=
  let c0_1323 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2686 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v2687 : Index := Scalar.indexCast arg19
  let c1504 : Index := 1504#32
  let c0_1324 : Index := 0#32
  ![0, v2686.toNat, v2687.toNat, 1504, 0]
def k0_off2473 (v330 : BitVec 32) : Fin 5 → Nat :=
  let c0_1325 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2691 : Index := Scalar.indexCast v347
  let c94 : Index := 94#32
  let c0_1326 : Index := 0#32
  let c0_1327 : Index := 0#32
  ![0, v2691.toNat, 94, 0, 0]
def k0_off2474 (v1 : BitVec 32) (k0_t51 : Fin (k0_t51_loop v1).trips) (v228 : BitVec 32) (v257 : BitVec 32) (k0_t55 : Fin (k0_t55_loop v228 v257).trips) : Fin 5 → Nat :=
  let c0_1330 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2708 : Index := Scalar.indexCast v226
  let c94_1331 : Index := 94#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2709 : Index := Scalar.indexCast v382
  let c0_1332 : Index := 0#32
  ![0, v2708.toNat, 94, v2709.toNat, 0]
def k0_off2475 (v330 : BitVec 32) : Fin 5 → Nat :=
  let c0_1333 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2713 : Index := Scalar.indexCast v347
  let c95 : Index := 95#32
  let c0_1334 : Index := 0#32
  let c0_1335 : Index := 0#32
  ![0, v2713.toNat, 95, 0, 0]
def k0_off2476 (v1 : BitVec 32) (k0_t51 : Fin (k0_t51_loop v1).trips) (v228 : BitVec 32) (v257 : BitVec 32) (k0_t55 : Fin (k0_t55_loop v228 v257).trips) : Fin 5 → Nat :=
  let c0_1338 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2730 : Index := Scalar.indexCast v226
  let c95_1339 : Index := 95#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2731 : Index := Scalar.indexCast v382
  let c0_1340 : Index := 0#32
  ![0, v2730.toNat, 95, v2731.toNat, 0]
def k0_off2477 (v1 : BitVec 32) (k0_t51 : Fin (k0_t51_loop v1).trips) (v228 : BitVec 32) (v257 : BitVec 32) (k0_t55 : Fin (k0_t55_loop v228 v257).trips) : Fin 5 → Nat :=
  let c0_1341 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2735 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v2736 : Index := Scalar.indexCast arg19
  let c1536 : Index := 1536#32
  let c0_1342 : Index := 0#32
  ![0, v2735.toNat, v2736.toNat, 1536, 0]
def k0_off2478 (v330 : BitVec 32) : Fin 5 → Nat :=
  let c0_1343 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2740 : Index := Scalar.indexCast v347
  let c96_1344 : Index := 96#32
  let c0_1345 : Index := 0#32
  let c0_1346 : Index := 0#32
  ![0, v2740.toNat, 96, 0, 0]
def k0_off2479 (v1 : BitVec 32) (k0_t51 : Fin (k0_t51_loop v1).trips) (v228 : BitVec 32) (v257 : BitVec 32) (k0_t55 : Fin (k0_t55_loop v228 v257).trips) : Fin 5 → Nat :=
  let c0_1349 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2757 : Index := Scalar.indexCast v226
  let c96_1350 : Index := 96#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2758 : Index := Scalar.indexCast v382
  let c0_1351 : Index := 0#32
  ![0, v2757.toNat, 96, v2758.toNat, 0]
def k0_off2480 (v330 : BitVec 32) : Fin 5 → Nat :=
  let c0_1352 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2762 : Index := Scalar.indexCast v347
  let c97 : Index := 97#32
  let c0_1353 : Index := 0#32
  let c0_1354 : Index := 0#32
  ![0, v2762.toNat, 97, 0, 0]
def k0_off2481 (v1 : BitVec 32) (k0_t51 : Fin (k0_t51_loop v1).trips) (v228 : BitVec 32) (v257 : BitVec 32) (k0_t55 : Fin (k0_t55_loop v228 v257).trips) : Fin 5 → Nat :=
  let c0_1357 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2779 : Index := Scalar.indexCast v226
  let c97_1358 : Index := 97#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2780 : Index := Scalar.indexCast v382
  let c0_1359 : Index := 0#32
  ![0, v2779.toNat, 97, v2780.toNat, 0]
def k0_off2482 (v1 : BitVec 32) (k0_t51 : Fin (k0_t51_loop v1).trips) (v228 : BitVec 32) (v257 : BitVec 32) (k0_t55 : Fin (k0_t55_loop v228 v257).trips) : Fin 5 → Nat :=
  let c0_1360 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2784 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v2785 : Index := Scalar.indexCast arg19
  let c1568 : Index := 1568#32
  let c0_1361 : Index := 0#32
  ![0, v2784.toNat, v2785.toNat, 1568, 0]
def k0_off2483 (v330 : BitVec 32) : Fin 5 → Nat :=
  let c0_1362 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2789 : Index := Scalar.indexCast v347
  let c98 : Index := 98#32
  let c0_1363 : Index := 0#32
  let c0_1364 : Index := 0#32
  ![0, v2789.toNat, 98, 0, 0]
def k0_off2484 (v1 : BitVec 32) (k0_t51 : Fin (k0_t51_loop v1).trips) (v228 : BitVec 32) (v257 : BitVec 32) (k0_t55 : Fin (k0_t55_loop v228 v257).trips) : Fin 5 → Nat :=
  let c0_1367 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2806 : Index := Scalar.indexCast v226
  let c98_1368 : Index := 98#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2807 : Index := Scalar.indexCast v382
  let c0_1369 : Index := 0#32
  ![0, v2806.toNat, 98, v2807.toNat, 0]
def k0_off2485 (v330 : BitVec 32) : Fin 5 → Nat :=
  let c0_1370 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2811 : Index := Scalar.indexCast v347
  let c99 : Index := 99#32
  let c0_1371 : Index := 0#32
  let c0_1372 : Index := 0#32
  ![0, v2811.toNat, 99, 0, 0]
def k0_off2486 (v1 : BitVec 32) (k0_t51 : Fin (k0_t51_loop v1).trips) (v228 : BitVec 32) (v257 : BitVec 32) (k0_t55 : Fin (k0_t55_loop v228 v257).trips) : Fin 5 → Nat :=
  let c0_1375 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2828 : Index := Scalar.indexCast v226
  let c99_1376 : Index := 99#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2829 : Index := Scalar.indexCast v382
  let c0_1377 : Index := 0#32
  ![0, v2828.toNat, 99, v2829.toNat, 0]
def k0_off2487 (v1 : BitVec 32) (k0_t51 : Fin (k0_t51_loop v1).trips) (v228 : BitVec 32) (v257 : BitVec 32) (k0_t55 : Fin (k0_t55_loop v228 v257).trips) : Fin 5 → Nat :=
  let c0_1378 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2833 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v2834 : Index := Scalar.indexCast arg19
  let c1600 : Index := 1600#32
  let c0_1379 : Index := 0#32
  ![0, v2833.toNat, v2834.toNat, 1600, 0]
def k0_off2488 (v330 : BitVec 32) : Fin 5 → Nat :=
  let c0_1380 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2838 : Index := Scalar.indexCast v347
  let c100 : Index := 100#32
  let c0_1381 : Index := 0#32
  let c0_1382 : Index := 0#32
  ![0, v2838.toNat, 100, 0, 0]
def k0_off2489 (v1 : BitVec 32) (k0_t51 : Fin (k0_t51_loop v1).trips) (v228 : BitVec 32) (v257 : BitVec 32) (k0_t55 : Fin (k0_t55_loop v228 v257).trips) : Fin 5 → Nat :=
  let c0_1385 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2855 : Index := Scalar.indexCast v226
  let c100_1386 : Index := 100#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2856 : Index := Scalar.indexCast v382
  let c0_1387 : Index := 0#32
  ![0, v2855.toNat, 100, v2856.toNat, 0]
def k0_off2490 (v330 : BitVec 32) : Fin 5 → Nat :=
  let c0_1388 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2860 : Index := Scalar.indexCast v347
  let c101 : Index := 101#32
  let c0_1389 : Index := 0#32
  let c0_1390 : Index := 0#32
  ![0, v2860.toNat, 101, 0, 0]
def k0_off2491 (v1 : BitVec 32) (k0_t51 : Fin (k0_t51_loop v1).trips) (v228 : BitVec 32) (v257 : BitVec 32) (k0_t55 : Fin (k0_t55_loop v228 v257).trips) : Fin 5 → Nat :=
  let c0_1393 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2877 : Index := Scalar.indexCast v226
  let c101_1394 : Index := 101#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2878 : Index := Scalar.indexCast v382
  let c0_1395 : Index := 0#32
  ![0, v2877.toNat, 101, v2878.toNat, 0]
def k0_off2492 (v1 : BitVec 32) (k0_t51 : Fin (k0_t51_loop v1).trips) (v228 : BitVec 32) (v257 : BitVec 32) (k0_t55 : Fin (k0_t55_loop v228 v257).trips) : Fin 5 → Nat :=
  let c0_1396 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2882 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v2883 : Index := Scalar.indexCast arg19
  let c1632 : Index := 1632#32
  let c0_1397 : Index := 0#32
  ![0, v2882.toNat, v2883.toNat, 1632, 0]
def k0_off2493 (v330 : BitVec 32) : Fin 5 → Nat :=
  let c0_1398 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2887 : Index := Scalar.indexCast v347
  let c102 : Index := 102#32
  let c0_1399 : Index := 0#32
  let c0_1400 : Index := 0#32
  ![0, v2887.toNat, 102, 0, 0]
def k0_off2494 (v1 : BitVec 32) (k0_t51 : Fin (k0_t51_loop v1).trips) (v228 : BitVec 32) (v257 : BitVec 32) (k0_t55 : Fin (k0_t55_loop v228 v257).trips) : Fin 5 → Nat :=
  let c0_1403 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2904 : Index := Scalar.indexCast v226
  let c102_1404 : Index := 102#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2905 : Index := Scalar.indexCast v382
  let c0_1405 : Index := 0#32
  ![0, v2904.toNat, 102, v2905.toNat, 0]
def k0_off2495 (v330 : BitVec 32) : Fin 5 → Nat :=
  let c0_1406 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2909 : Index := Scalar.indexCast v347
  let c103 : Index := 103#32
  let c0_1407 : Index := 0#32
  let c0_1408 : Index := 0#32
  ![0, v2909.toNat, 103, 0, 0]
def k0_off2496 (v1 : BitVec 32) (k0_t51 : Fin (k0_t51_loop v1).trips) (v228 : BitVec 32) (v257 : BitVec 32) (k0_t55 : Fin (k0_t55_loop v228 v257).trips) : Fin 5 → Nat :=
  let c0_1411 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2926 : Index := Scalar.indexCast v226
  let c103_1412 : Index := 103#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2927 : Index := Scalar.indexCast v382
  let c0_1413 : Index := 0#32
  ![0, v2926.toNat, 103, v2927.toNat, 0]
def k0_off2497 (v1 : BitVec 32) (k0_t51 : Fin (k0_t51_loop v1).trips) (v228 : BitVec 32) (v257 : BitVec 32) (k0_t55 : Fin (k0_t55_loop v228 v257).trips) : Fin 5 → Nat :=
  let c0_1414 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2931 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v2932 : Index := Scalar.indexCast arg19
  let c1664 : Index := 1664#32
  let c0_1415 : Index := 0#32
  ![0, v2931.toNat, v2932.toNat, 1664, 0]
def k0_off2498 (v330 : BitVec 32) : Fin 5 → Nat :=
  let c0_1416 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2936 : Index := Scalar.indexCast v347
  let c104 : Index := 104#32
  let c0_1417 : Index := 0#32
  let c0_1418 : Index := 0#32
  ![0, v2936.toNat, 104, 0, 0]
def k0_off2499 (v1 : BitVec 32) (k0_t51 : Fin (k0_t51_loop v1).trips) (v228 : BitVec 32) (v257 : BitVec 32) (k0_t55 : Fin (k0_t55_loop v228 v257).trips) : Fin 5 → Nat :=
  let c0_1421 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2953 : Index := Scalar.indexCast v226
  let c104_1422 : Index := 104#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2954 : Index := Scalar.indexCast v382
  let c0_1423 : Index := 0#32
  ![0, v2953.toNat, 104, v2954.toNat, 0]
def k0_off2500 (v330 : BitVec 32) : Fin 5 → Nat :=
  let c0_1424 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2958 : Index := Scalar.indexCast v347
  let c105 : Index := 105#32
  let c0_1425 : Index := 0#32
  let c0_1426 : Index := 0#32
  ![0, v2958.toNat, 105, 0, 0]
def k0_off2501 (v1 : BitVec 32) (k0_t51 : Fin (k0_t51_loop v1).trips) (v228 : BitVec 32) (v257 : BitVec 32) (k0_t55 : Fin (k0_t55_loop v228 v257).trips) : Fin 5 → Nat :=
  let c0_1429 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2975 : Index := Scalar.indexCast v226
  let c105_1430 : Index := 105#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v2976 : Index := Scalar.indexCast v382
  let c0_1431 : Index := 0#32
  ![0, v2975.toNat, 105, v2976.toNat, 0]
def k0_off2502 (v1 : BitVec 32) (k0_t51 : Fin (k0_t51_loop v1).trips) (v228 : BitVec 32) (v257 : BitVec 32) (k0_t55 : Fin (k0_t55_loop v228 v257).trips) : Fin 5 → Nat :=
  let c0_1432 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2980 : Index := Scalar.indexCast v226
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let v2981 : Index := Scalar.indexCast arg19
  let c1696 : Index := 1696#32
  let c0_1433 : Index := 0#32
  ![0, v2980.toNat, v2981.toNat, 1696, 0]
def k0_off2503 (v330 : BitVec 32) : Fin 5 → Nat :=
  let c0_1434 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2985 : Index := Scalar.indexCast v347
  let c106 : Index := 106#32
  let c0_1435 : Index := 0#32
  let c0_1436 : Index := 0#32
  ![0, v2985.toNat, 106, 0, 0]
def k0_off2504 (v1 : BitVec 32) (k0_t51 : Fin (k0_t51_loop v1).trips) (v228 : BitVec 32) (v257 : BitVec 32) (k0_t55 : Fin (k0_t55_loop v228 v257).trips) : Fin 5 → Nat :=
  let c0_1439 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v3002 : Index := Scalar.indexCast v226
  let c106_1440 : Index := 106#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v3003 : Index := Scalar.indexCast v382
  let c0_1441 : Index := 0#32
  ![0, v3002.toNat, 106, v3003.toNat, 0]
def k0_off2505 (v330 : BitVec 32) : Fin 5 → Nat :=
  let c0_1442 : Index := 0#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v3007 : Index := Scalar.indexCast v347
  let c107 : Index := 107#32
  let c0_1443 : Index := 0#32
  let c0_1444 : Index := 0#32
  ![0, v3007.toNat, 107, 0, 0]

def k0_chk37_0 (v330 : BitVec 32) : Prop :=
  (∀ a, (k0_off2238 v330) a + S1x1x1x8x128.size a ≤ S2x10x108x8x128.size a) ∧
  (∀ a, (k0_off2240 v330) a + S1x1x1x8x128.size a ≤ S2x10x108x8x128.size a) ∧
  (∀ a, (k0_off2243 v330) a + S1x1x1x8x128.size a ≤ S2x10x108x8x128.size a) ∧
  (∀ a, (k0_off2245 v330) a + S1x1x1x8x128.size a ≤ S2x10x108x8x128.size a) ∧
  (∀ a, (k0_off2248 v330) a + S1x1x1x8x128.size a ≤ S2x10x108x8x128.size a) ∧
  (∀ a, (k0_off2250 v330) a + S1x1x1x8x128.size a ≤ S2x10x108x8x128.size a) ∧
  (∀ a, (k0_off2253 v330) a + S1x1x1x8x128.size a ≤ S2x10x108x8x128.size a) ∧
  (∀ a, (k0_off2255 v330) a + S1x1x1x8x128.size a ≤ S2x10x108x8x128.size a) ∧
  (∀ a, (k0_off2258 v330) a + S1x1x1x8x128.size a ≤ S2x10x108x8x128.size a) ∧
  (∀ a, (k0_off2260 v330) a + S1x1x1x8x128.size a ≤ S2x10x108x8x128.size a) ∧
  (∀ a, (k0_off2263 v330) a + S1x1x1x8x128.size a ≤ S2x10x108x8x128.size a) ∧
  (∀ a, (k0_off2265 v330) a + S1x1x1x8x128.size a ≤ S2x10x108x8x128.size a) ∧
  (∀ a, (k0_off2268 v330) a + S1x1x1x8x128.size a ≤ S2x10x108x8x128.size a) ∧
  (∀ a, (k0_off2270 v330) a + S1x1x1x8x128.size a ≤ S2x10x108x8x128.size a) ∧
  (∀ a, (k0_off2273 v330) a + S1x1x1x8x128.size a ≤ S2x10x108x8x128.size a) ∧
  (∀ a, (k0_off2275 v330) a + S1x1x1x8x128.size a ≤ S2x10x108x8x128.size a) ∧
  (∀ a, (k0_off2278 v330) a + S1x1x1x8x128.size a ≤ S2x10x108x8x128.size a) ∧
  (∀ a, (k0_off2280 v330) a + S1x1x1x8x128.size a ≤ S2x10x108x8x128.size a) ∧
  (∀ a, (k0_off2283 v330) a + S1x1x1x8x128.size a ≤ S2x10x108x8x128.size a) ∧
  (∀ a, (k0_off2285 v330) a + S1x1x1x8x128.size a ≤ S2x10x108x8x128.size a) ∧
  (∀ a, (k0_off2288 v330) a + S1x1x1x8x128.size a ≤ S2x10x108x8x128.size a) ∧
  (∀ a, (k0_off2290 v330) a + S1x1x1x8x128.size a ≤ S2x10x108x8x128.size a) ∧
  (∀ a, (k0_off2293 v330) a + S1x1x1x8x128.size a ≤ S2x10x108x8x128.size a) ∧
  (∀ a, (k0_off2295 v330) a + S1x1x1x8x128.size a ≤ S2x10x108x8x128.size a) ∧
  (∀ a, (k0_off2298 v330) a + S1x1x1x8x128.size a ≤ S2x10x108x8x128.size a) ∧
  (∀ a, (k0_off2300 v330) a + S1x1x1x8x128.size a ≤ S2x10x108x8x128.size a) ∧
  (∀ a, (k0_off2303 v330) a + S1x1x1x8x128.size a ≤ S2x10x108x8x128.size a) ∧
  (∀ a, (k0_off2305 v330) a + S1x1x1x8x128.size a ≤ S2x10x108x8x128.size a) ∧
  (∀ a, (k0_off2308 v330) a + S1x1x1x8x128.size a ≤ S2x10x108x8x128.size a) ∧
  (∀ a, (k0_off2310 v330) a + S1x1x1x8x128.size a ≤ S2x10x108x8x128.size a) ∧
  (∀ a, (k0_off2313 v330) a + S1x1x1x8x128.size a ≤ S2x10x108x8x128.size a) ∧
  (∀ a, (k0_off2315 v330) a + S1x1x1x8x128.size a ≤ S2x10x108x8x128.size a)
def k0_chk37_1 (v330 : BitVec 32) : Prop :=
  (∀ a, (k0_off2318 v330) a + S1x1x1x8x128.size a ≤ S2x10x108x8x128.size a) ∧
  (∀ a, (k0_off2320 v330) a + S1x1x1x8x128.size a ≤ S2x10x108x8x128.size a) ∧
  (∀ a, (k0_off2323 v330) a + S1x1x1x8x128.size a ≤ S2x10x108x8x128.size a) ∧
  (∀ a, (k0_off2325 v330) a + S1x1x1x8x128.size a ≤ S2x10x108x8x128.size a) ∧
  (∀ a, (k0_off2328 v330) a + S1x1x1x8x128.size a ≤ S2x10x108x8x128.size a) ∧
  (∀ a, (k0_off2330 v330) a + S1x1x1x8x128.size a ≤ S2x10x108x8x128.size a) ∧
  (∀ a, (k0_off2333 v330) a + S1x1x1x8x128.size a ≤ S2x10x108x8x128.size a) ∧
  (∀ a, (k0_off2335 v330) a + S1x1x1x8x128.size a ≤ S2x10x108x8x128.size a) ∧
  (∀ a, (k0_off2338 v330) a + S1x1x1x8x128.size a ≤ S2x10x108x8x128.size a) ∧
  (∀ a, (k0_off2340 v330) a + S1x1x1x8x128.size a ≤ S2x10x108x8x128.size a) ∧
  (∀ a, (k0_off2343 v330) a + S1x1x1x8x128.size a ≤ S2x10x108x8x128.size a) ∧
  (∀ a, (k0_off2345 v330) a + S1x1x1x8x128.size a ≤ S2x10x108x8x128.size a) ∧
  (∀ a, (k0_off2348 v330) a + S1x1x1x8x128.size a ≤ S2x10x108x8x128.size a) ∧
  (∀ a, (k0_off2350 v330) a + S1x1x1x8x128.size a ≤ S2x10x108x8x128.size a) ∧
  (∀ a, (k0_off2353 v330) a + S1x1x1x8x128.size a ≤ S2x10x108x8x128.size a) ∧
  (∀ a, (k0_off2355 v330) a + S1x1x1x8x128.size a ≤ S2x10x108x8x128.size a) ∧
  (∀ a, (k0_off2358 v330) a + S1x1x1x8x128.size a ≤ S2x10x108x8x128.size a) ∧
  (∀ a, (k0_off2360 v330) a + S1x1x1x8x128.size a ≤ S2x10x108x8x128.size a) ∧
  (∀ a, (k0_off2363 v330) a + S1x1x1x8x128.size a ≤ S2x10x108x8x128.size a) ∧
  (∀ a, (k0_off2365 v330) a + S1x1x1x8x128.size a ≤ S2x10x108x8x128.size a) ∧
  (∀ a, (k0_off2368 v330) a + S1x1x1x8x128.size a ≤ S2x10x108x8x128.size a) ∧
  (∀ a, (k0_off2370 v330) a + S1x1x1x8x128.size a ≤ S2x10x108x8x128.size a) ∧
  (∀ a, (k0_off2373 v330) a + S1x1x1x8x128.size a ≤ S2x10x108x8x128.size a) ∧
  (∀ a, (k0_off2375 v330) a + S1x1x1x8x128.size a ≤ S2x10x108x8x128.size a) ∧
  (∀ a, (k0_off2378 v330) a + S1x1x1x8x128.size a ≤ S2x10x108x8x128.size a) ∧
  (∀ a, (k0_off2380 v330) a + S1x1x1x8x128.size a ≤ S2x10x108x8x128.size a) ∧
  (∀ a, (k0_off2383 v330) a + S1x1x1x8x128.size a ≤ S2x10x108x8x128.size a) ∧
  (∀ a, (k0_off2385 v330) a + S1x1x1x8x128.size a ≤ S2x10x108x8x128.size a) ∧
  (∀ a, (k0_off2388 v330) a + S1x1x1x8x128.size a ≤ S2x10x108x8x128.size a) ∧
  (∀ a, (k0_off2390 v330) a + S1x1x1x8x128.size a ≤ S2x10x108x8x128.size a) ∧
  (∀ a, (k0_off2393 v330) a + S1x1x1x8x128.size a ≤ S2x10x108x8x128.size a) ∧
  (∀ a, (k0_off2395 v330) a + S1x1x1x8x128.size a ≤ S2x10x108x8x128.size a)
def k0_chk37_2 (v330 : BitVec 32) : Prop :=
  (∀ a, (k0_off2398 v330) a + S1x1x1x8x128.size a ≤ S2x10x108x8x128.size a) ∧
  (∀ a, (k0_off2400 v330) a + S1x1x1x8x128.size a ≤ S2x10x108x8x128.size a) ∧
  (∀ a, (k0_off2403 v330) a + S1x1x1x8x128.size a ≤ S2x10x108x8x128.size a) ∧
  (∀ a, (k0_off2405 v330) a + S1x1x1x8x128.size a ≤ S2x10x108x8x128.size a) ∧
  (∀ a, (k0_off2408 v330) a + S1x1x1x8x128.size a ≤ S2x10x108x8x128.size a) ∧
  (∀ a, (k0_off2410 v330) a + S1x1x1x8x128.size a ≤ S2x10x108x8x128.size a) ∧
  (∀ a, (k0_off2413 v330) a + S1x1x1x8x128.size a ≤ S2x10x108x8x128.size a) ∧
  (∀ a, (k0_off2415 v330) a + S1x1x1x8x128.size a ≤ S2x10x108x8x128.size a) ∧
  (∀ a, (k0_off2418 v330) a + S1x1x1x8x128.size a ≤ S2x10x108x8x128.size a) ∧
  (∀ a, (k0_off2420 v330) a + S1x1x1x8x128.size a ≤ S2x10x108x8x128.size a) ∧
  (∀ a, (k0_off2423 v330) a + S1x1x1x8x128.size a ≤ S2x10x108x8x128.size a) ∧
  (∀ a, (k0_off2425 v330) a + S1x1x1x8x128.size a ≤ S2x10x108x8x128.size a) ∧
  (∀ a, (k0_off2428 v330) a + S1x1x1x8x128.size a ≤ S2x10x108x8x128.size a) ∧
  (∀ a, (k0_off2430 v330) a + S1x1x1x8x128.size a ≤ S2x10x108x8x128.size a) ∧
  (∀ a, (k0_off2433 v330) a + S1x1x1x8x128.size a ≤ S2x10x108x8x128.size a) ∧
  (∀ a, (k0_off2435 v330) a + S1x1x1x8x128.size a ≤ S2x10x108x8x128.size a) ∧
  (∀ a, (k0_off2438 v330) a + S1x1x1x8x128.size a ≤ S2x10x108x8x128.size a) ∧
  (∀ a, (k0_off2440 v330) a + S1x1x1x8x128.size a ≤ S2x10x108x8x128.size a) ∧
  (∀ a, (k0_off2443 v330) a + S1x1x1x8x128.size a ≤ S2x10x108x8x128.size a) ∧
  (∀ a, (k0_off2445 v330) a + S1x1x1x8x128.size a ≤ S2x10x108x8x128.size a) ∧
  (∀ a, (k0_off2448 v330) a + S1x1x1x8x128.size a ≤ S2x10x108x8x128.size a) ∧
  (∀ a, (k0_off2450 v330) a + S1x1x1x8x128.size a ≤ S2x10x108x8x128.size a) ∧
  (∀ a, (k0_off2453 v330) a + S1x1x1x8x128.size a ≤ S2x10x108x8x128.size a) ∧
  (∀ a, (k0_off2455 v330) a + S1x1x1x8x128.size a ≤ S2x10x108x8x128.size a) ∧
  (∀ a, (k0_off2458 v330) a + S1x1x1x8x128.size a ≤ S2x10x108x8x128.size a) ∧
  (∀ a, (k0_off2460 v330) a + S1x1x1x8x128.size a ≤ S2x10x108x8x128.size a) ∧
  (∀ a, (k0_off2463 v330) a + S1x1x1x8x128.size a ≤ S2x10x108x8x128.size a) ∧
  (∀ a, (k0_off2465 v330) a + S1x1x1x8x128.size a ≤ S2x10x108x8x128.size a) ∧
  (∀ a, (k0_off2468 v330) a + S1x1x1x8x128.size a ≤ S2x10x108x8x128.size a) ∧
  (∀ a, (k0_off2470 v330) a + S1x1x1x8x128.size a ≤ S2x10x108x8x128.size a) ∧
  (∀ a, (k0_off2473 v330) a + S1x1x1x8x128.size a ≤ S2x10x108x8x128.size a) ∧
  (∀ a, (k0_off2475 v330) a + S1x1x1x8x128.size a ≤ S2x10x108x8x128.size a)
def k0_chk37_3 (v330 : BitVec 32) : Prop :=
  (∀ a, (k0_off2478 v330) a + S1x1x1x8x128.size a ≤ S2x10x108x8x128.size a) ∧
  (∀ a, (k0_off2480 v330) a + S1x1x1x8x128.size a ≤ S2x10x108x8x128.size a) ∧
  (∀ a, (k0_off2483 v330) a + S1x1x1x8x128.size a ≤ S2x10x108x8x128.size a) ∧
  (∀ a, (k0_off2485 v330) a + S1x1x1x8x128.size a ≤ S2x10x108x8x128.size a) ∧
  (∀ a, (k0_off2488 v330) a + S1x1x1x8x128.size a ≤ S2x10x108x8x128.size a) ∧
  (∀ a, (k0_off2490 v330) a + S1x1x1x8x128.size a ≤ S2x10x108x8x128.size a) ∧
  (∀ a, (k0_off2493 v330) a + S1x1x1x8x128.size a ≤ S2x10x108x8x128.size a) ∧
  (∀ a, (k0_off2495 v330) a + S1x1x1x8x128.size a ≤ S2x10x108x8x128.size a) ∧
  (∀ a, (k0_off2498 v330) a + S1x1x1x8x128.size a ≤ S2x10x108x8x128.size a) ∧
  (∀ a, (k0_off2500 v330) a + S1x1x1x8x128.size a ≤ S2x10x108x8x128.size a) ∧
  (∀ a, (k0_off2503 v330) a + S1x1x1x8x128.size a ≤ S2x10x108x8x128.size a) ∧
  (∀ a, (k0_off2505 v330) a + S1x1x1x8x128.size a ≤ S2x10x108x8x128.size a)
def k0_chk37 (v330 : BitVec 32) : Prop :=
  k0_chk37_0 v330 ∧
  k0_chk37_1 v330 ∧
  k0_chk37_2 v330 ∧
  k0_chk37_3 v330
theorem k0_off2238_inb : ∀ (v330 : BitVec 32) (k0_hw37 : k0_chk37 v330), ∀ a, (k0_off2238 v330) a + S1x1x1x8x128.size a ≤ S2x10x108x8x128.size a := fun v330 k0_hw37 => k0_hw37.1.1
theorem k0_off2240_inb : ∀ (v330 : BitVec 32) (k0_hw37 : k0_chk37 v330), ∀ a, (k0_off2240 v330) a + S1x1x1x8x128.size a ≤ S2x10x108x8x128.size a := fun v330 k0_hw37 => k0_hw37.1.2.1
theorem k0_off2243_inb : ∀ (v330 : BitVec 32) (k0_hw37 : k0_chk37 v330), ∀ a, (k0_off2243 v330) a + S1x1x1x8x128.size a ≤ S2x10x108x8x128.size a := fun v330 k0_hw37 => k0_hw37.1.2.2.1
theorem k0_off2245_inb : ∀ (v330 : BitVec 32) (k0_hw37 : k0_chk37 v330), ∀ a, (k0_off2245 v330) a + S1x1x1x8x128.size a ≤ S2x10x108x8x128.size a := fun v330 k0_hw37 => k0_hw37.1.2.2.2.1
theorem k0_off2248_inb : ∀ (v330 : BitVec 32) (k0_hw37 : k0_chk37 v330), ∀ a, (k0_off2248 v330) a + S1x1x1x8x128.size a ≤ S2x10x108x8x128.size a := fun v330 k0_hw37 => k0_hw37.1.2.2.2.2.1
theorem k0_off2250_inb : ∀ (v330 : BitVec 32) (k0_hw37 : k0_chk37 v330), ∀ a, (k0_off2250 v330) a + S1x1x1x8x128.size a ≤ S2x10x108x8x128.size a := fun v330 k0_hw37 => k0_hw37.1.2.2.2.2.2.1
theorem k0_off2253_inb : ∀ (v330 : BitVec 32) (k0_hw37 : k0_chk37 v330), ∀ a, (k0_off2253 v330) a + S1x1x1x8x128.size a ≤ S2x10x108x8x128.size a := fun v330 k0_hw37 => k0_hw37.1.2.2.2.2.2.2.1
theorem k0_off2255_inb : ∀ (v330 : BitVec 32) (k0_hw37 : k0_chk37 v330), ∀ a, (k0_off2255 v330) a + S1x1x1x8x128.size a ≤ S2x10x108x8x128.size a := fun v330 k0_hw37 => k0_hw37.1.2.2.2.2.2.2.2.1
theorem k0_off2258_inb : ∀ (v330 : BitVec 32) (k0_hw37 : k0_chk37 v330), ∀ a, (k0_off2258 v330) a + S1x1x1x8x128.size a ≤ S2x10x108x8x128.size a := fun v330 k0_hw37 => k0_hw37.1.2.2.2.2.2.2.2.2.1
theorem k0_off2260_inb : ∀ (v330 : BitVec 32) (k0_hw37 : k0_chk37 v330), ∀ a, (k0_off2260 v330) a + S1x1x1x8x128.size a ≤ S2x10x108x8x128.size a := fun v330 k0_hw37 => k0_hw37.1.2.2.2.2.2.2.2.2.2.1
theorem k0_off2263_inb : ∀ (v330 : BitVec 32) (k0_hw37 : k0_chk37 v330), ∀ a, (k0_off2263 v330) a + S1x1x1x8x128.size a ≤ S2x10x108x8x128.size a := fun v330 k0_hw37 => k0_hw37.1.2.2.2.2.2.2.2.2.2.2.1
theorem k0_off2265_inb : ∀ (v330 : BitVec 32) (k0_hw37 : k0_chk37 v330), ∀ a, (k0_off2265 v330) a + S1x1x1x8x128.size a ≤ S2x10x108x8x128.size a := fun v330 k0_hw37 => k0_hw37.1.2.2.2.2.2.2.2.2.2.2.2.1
theorem k0_off2268_inb : ∀ (v330 : BitVec 32) (k0_hw37 : k0_chk37 v330), ∀ a, (k0_off2268 v330) a + S1x1x1x8x128.size a ≤ S2x10x108x8x128.size a := fun v330 k0_hw37 => k0_hw37.1.2.2.2.2.2.2.2.2.2.2.2.2.1
theorem k0_off2270_inb : ∀ (v330 : BitVec 32) (k0_hw37 : k0_chk37 v330), ∀ a, (k0_off2270 v330) a + S1x1x1x8x128.size a ≤ S2x10x108x8x128.size a := fun v330 k0_hw37 => k0_hw37.1.2.2.2.2.2.2.2.2.2.2.2.2.2.1
theorem k0_off2273_inb : ∀ (v330 : BitVec 32) (k0_hw37 : k0_chk37 v330), ∀ a, (k0_off2273 v330) a + S1x1x1x8x128.size a ≤ S2x10x108x8x128.size a := fun v330 k0_hw37 => k0_hw37.1.2.2.2.2.2.2.2.2.2.2.2.2.2.2.1
theorem k0_off2275_inb : ∀ (v330 : BitVec 32) (k0_hw37 : k0_chk37 v330), ∀ a, (k0_off2275 v330) a + S1x1x1x8x128.size a ≤ S2x10x108x8x128.size a := fun v330 k0_hw37 => k0_hw37.1.2.2.2.2.2.2.2.2.2.2.2.2.2.2.2.1
theorem k0_off2278_inb : ∀ (v330 : BitVec 32) (k0_hw37 : k0_chk37 v330), ∀ a, (k0_off2278 v330) a + S1x1x1x8x128.size a ≤ S2x10x108x8x128.size a := fun v330 k0_hw37 => k0_hw37.1.2.2.2.2.2.2.2.2.2.2.2.2.2.2.2.2.1
theorem k0_off2280_inb : ∀ (v330 : BitVec 32) (k0_hw37 : k0_chk37 v330), ∀ a, (k0_off2280 v330) a + S1x1x1x8x128.size a ≤ S2x10x108x8x128.size a := fun v330 k0_hw37 => k0_hw37.1.2.2.2.2.2.2.2.2.2.2.2.2.2.2.2.2.2.1
theorem k0_off2283_inb : ∀ (v330 : BitVec 32) (k0_hw37 : k0_chk37 v330), ∀ a, (k0_off2283 v330) a + S1x1x1x8x128.size a ≤ S2x10x108x8x128.size a := fun v330 k0_hw37 => k0_hw37.1.2.2.2.2.2.2.2.2.2.2.2.2.2.2.2.2.2.2.1
theorem k0_off2285_inb : ∀ (v330 : BitVec 32) (k0_hw37 : k0_chk37 v330), ∀ a, (k0_off2285 v330) a + S1x1x1x8x128.size a ≤ S2x10x108x8x128.size a := fun v330 k0_hw37 => k0_hw37.1.2.2.2.2.2.2.2.2.2.2.2.2.2.2.2.2.2.2.2.1
theorem k0_off2288_inb : ∀ (v330 : BitVec 32) (k0_hw37 : k0_chk37 v330), ∀ a, (k0_off2288 v330) a + S1x1x1x8x128.size a ≤ S2x10x108x8x128.size a := fun v330 k0_hw37 => k0_hw37.1.2.2.2.2.2.2.2.2.2.2.2.2.2.2.2.2.2.2.2.2.1
theorem k0_off2290_inb : ∀ (v330 : BitVec 32) (k0_hw37 : k0_chk37 v330), ∀ a, (k0_off2290 v330) a + S1x1x1x8x128.size a ≤ S2x10x108x8x128.size a := fun v330 k0_hw37 => k0_hw37.1.2.2.2.2.2.2.2.2.2.2.2.2.2.2.2.2.2.2.2.2.2.1
theorem k0_off2293_inb : ∀ (v330 : BitVec 32) (k0_hw37 : k0_chk37 v330), ∀ a, (k0_off2293 v330) a + S1x1x1x8x128.size a ≤ S2x10x108x8x128.size a := fun v330 k0_hw37 => k0_hw37.1.2.2.2.2.2.2.2.2.2.2.2.2.2.2.2.2.2.2.2.2.2.2.1
theorem k0_off2295_inb : ∀ (v330 : BitVec 32) (k0_hw37 : k0_chk37 v330), ∀ a, (k0_off2295 v330) a + S1x1x1x8x128.size a ≤ S2x10x108x8x128.size a := fun v330 k0_hw37 => k0_hw37.1.2.2.2.2.2.2.2.2.2.2.2.2.2.2.2.2.2.2.2.2.2.2.2.1
theorem k0_off2298_inb : ∀ (v330 : BitVec 32) (k0_hw37 : k0_chk37 v330), ∀ a, (k0_off2298 v330) a + S1x1x1x8x128.size a ≤ S2x10x108x8x128.size a := fun v330 k0_hw37 => k0_hw37.1.2.2.2.2.2.2.2.2.2.2.2.2.2.2.2.2.2.2.2.2.2.2.2.2.1
theorem k0_off2300_inb : ∀ (v330 : BitVec 32) (k0_hw37 : k0_chk37 v330), ∀ a, (k0_off2300 v330) a + S1x1x1x8x128.size a ≤ S2x10x108x8x128.size a := fun v330 k0_hw37 => k0_hw37.1.2.2.2.2.2.2.2.2.2.2.2.2.2.2.2.2.2.2.2.2.2.2.2.2.2.1
theorem k0_off2303_inb : ∀ (v330 : BitVec 32) (k0_hw37 : k0_chk37 v330), ∀ a, (k0_off2303 v330) a + S1x1x1x8x128.size a ≤ S2x10x108x8x128.size a := fun v330 k0_hw37 => k0_hw37.1.2.2.2.2.2.2.2.2.2.2.2.2.2.2.2.2.2.2.2.2.2.2.2.2.2.2.1
theorem k0_off2305_inb : ∀ (v330 : BitVec 32) (k0_hw37 : k0_chk37 v330), ∀ a, (k0_off2305 v330) a + S1x1x1x8x128.size a ≤ S2x10x108x8x128.size a := fun v330 k0_hw37 => k0_hw37.1.2.2.2.2.2.2.2.2.2.2.2.2.2.2.2.2.2.2.2.2.2.2.2.2.2.2.2.1
theorem k0_off2308_inb : ∀ (v330 : BitVec 32) (k0_hw37 : k0_chk37 v330), ∀ a, (k0_off2308 v330) a + S1x1x1x8x128.size a ≤ S2x10x108x8x128.size a := fun v330 k0_hw37 => k0_hw37.1.2.2.2.2.2.2.2.2.2.2.2.2.2.2.2.2.2.2.2.2.2.2.2.2.2.2.2.2.1
theorem k0_off2310_inb : ∀ (v330 : BitVec 32) (k0_hw37 : k0_chk37 v330), ∀ a, (k0_off2310 v330) a + S1x1x1x8x128.size a ≤ S2x10x108x8x128.size a := fun v330 k0_hw37 => k0_hw37.1.2.2.2.2.2.2.2.2.2.2.2.2.2.2.2.2.2.2.2.2.2.2.2.2.2.2.2.2.2.1
theorem k0_off2313_inb : ∀ (v330 : BitVec 32) (k0_hw37 : k0_chk37 v330), ∀ a, (k0_off2313 v330) a + S1x1x1x8x128.size a ≤ S2x10x108x8x128.size a := fun v330 k0_hw37 => k0_hw37.1.2.2.2.2.2.2.2.2.2.2.2.2.2.2.2.2.2.2.2.2.2.2.2.2.2.2.2.2.2.2.1
theorem k0_off2315_inb : ∀ (v330 : BitVec 32) (k0_hw37 : k0_chk37 v330), ∀ a, (k0_off2315 v330) a + S1x1x1x8x128.size a ≤ S2x10x108x8x128.size a := fun v330 k0_hw37 => k0_hw37.1.2.2.2.2.2.2.2.2.2.2.2.2.2.2.2.2.2.2.2.2.2.2.2.2.2.2.2.2.2.2.2
theorem k0_off2318_inb : ∀ (v330 : BitVec 32) (k0_hw37 : k0_chk37 v330), ∀ a, (k0_off2318 v330) a + S1x1x1x8x128.size a ≤ S2x10x108x8x128.size a := fun v330 k0_hw37 => k0_hw37.2.1.1
theorem k0_off2320_inb : ∀ (v330 : BitVec 32) (k0_hw37 : k0_chk37 v330), ∀ a, (k0_off2320 v330) a + S1x1x1x8x128.size a ≤ S2x10x108x8x128.size a := fun v330 k0_hw37 => k0_hw37.2.1.2.1
theorem k0_off2323_inb : ∀ (v330 : BitVec 32) (k0_hw37 : k0_chk37 v330), ∀ a, (k0_off2323 v330) a + S1x1x1x8x128.size a ≤ S2x10x108x8x128.size a := fun v330 k0_hw37 => k0_hw37.2.1.2.2.1
theorem k0_off2325_inb : ∀ (v330 : BitVec 32) (k0_hw37 : k0_chk37 v330), ∀ a, (k0_off2325 v330) a + S1x1x1x8x128.size a ≤ S2x10x108x8x128.size a := fun v330 k0_hw37 => k0_hw37.2.1.2.2.2.1
theorem k0_off2328_inb : ∀ (v330 : BitVec 32) (k0_hw37 : k0_chk37 v330), ∀ a, (k0_off2328 v330) a + S1x1x1x8x128.size a ≤ S2x10x108x8x128.size a := fun v330 k0_hw37 => k0_hw37.2.1.2.2.2.2.1
theorem k0_off2330_inb : ∀ (v330 : BitVec 32) (k0_hw37 : k0_chk37 v330), ∀ a, (k0_off2330 v330) a + S1x1x1x8x128.size a ≤ S2x10x108x8x128.size a := fun v330 k0_hw37 => k0_hw37.2.1.2.2.2.2.2.1
theorem k0_off2333_inb : ∀ (v330 : BitVec 32) (k0_hw37 : k0_chk37 v330), ∀ a, (k0_off2333 v330) a + S1x1x1x8x128.size a ≤ S2x10x108x8x128.size a := fun v330 k0_hw37 => k0_hw37.2.1.2.2.2.2.2.2.1
theorem k0_off2335_inb : ∀ (v330 : BitVec 32) (k0_hw37 : k0_chk37 v330), ∀ a, (k0_off2335 v330) a + S1x1x1x8x128.size a ≤ S2x10x108x8x128.size a := fun v330 k0_hw37 => k0_hw37.2.1.2.2.2.2.2.2.2.1
theorem k0_off2338_inb : ∀ (v330 : BitVec 32) (k0_hw37 : k0_chk37 v330), ∀ a, (k0_off2338 v330) a + S1x1x1x8x128.size a ≤ S2x10x108x8x128.size a := fun v330 k0_hw37 => k0_hw37.2.1.2.2.2.2.2.2.2.2.1
theorem k0_off2340_inb : ∀ (v330 : BitVec 32) (k0_hw37 : k0_chk37 v330), ∀ a, (k0_off2340 v330) a + S1x1x1x8x128.size a ≤ S2x10x108x8x128.size a := fun v330 k0_hw37 => k0_hw37.2.1.2.2.2.2.2.2.2.2.2.1
theorem k0_off2343_inb : ∀ (v330 : BitVec 32) (k0_hw37 : k0_chk37 v330), ∀ a, (k0_off2343 v330) a + S1x1x1x8x128.size a ≤ S2x10x108x8x128.size a := fun v330 k0_hw37 => k0_hw37.2.1.2.2.2.2.2.2.2.2.2.2.1
theorem k0_off2345_inb : ∀ (v330 : BitVec 32) (k0_hw37 : k0_chk37 v330), ∀ a, (k0_off2345 v330) a + S1x1x1x8x128.size a ≤ S2x10x108x8x128.size a := fun v330 k0_hw37 => k0_hw37.2.1.2.2.2.2.2.2.2.2.2.2.2.1
theorem k0_off2348_inb : ∀ (v330 : BitVec 32) (k0_hw37 : k0_chk37 v330), ∀ a, (k0_off2348 v330) a + S1x1x1x8x128.size a ≤ S2x10x108x8x128.size a := fun v330 k0_hw37 => k0_hw37.2.1.2.2.2.2.2.2.2.2.2.2.2.2.1
theorem k0_off2350_inb : ∀ (v330 : BitVec 32) (k0_hw37 : k0_chk37 v330), ∀ a, (k0_off2350 v330) a + S1x1x1x8x128.size a ≤ S2x10x108x8x128.size a := fun v330 k0_hw37 => k0_hw37.2.1.2.2.2.2.2.2.2.2.2.2.2.2.2.1
theorem k0_off2353_inb : ∀ (v330 : BitVec 32) (k0_hw37 : k0_chk37 v330), ∀ a, (k0_off2353 v330) a + S1x1x1x8x128.size a ≤ S2x10x108x8x128.size a := fun v330 k0_hw37 => k0_hw37.2.1.2.2.2.2.2.2.2.2.2.2.2.2.2.2.1
theorem k0_off2355_inb : ∀ (v330 : BitVec 32) (k0_hw37 : k0_chk37 v330), ∀ a, (k0_off2355 v330) a + S1x1x1x8x128.size a ≤ S2x10x108x8x128.size a := fun v330 k0_hw37 => k0_hw37.2.1.2.2.2.2.2.2.2.2.2.2.2.2.2.2.2.1
theorem k0_off2358_inb : ∀ (v330 : BitVec 32) (k0_hw37 : k0_chk37 v330), ∀ a, (k0_off2358 v330) a + S1x1x1x8x128.size a ≤ S2x10x108x8x128.size a := fun v330 k0_hw37 => k0_hw37.2.1.2.2.2.2.2.2.2.2.2.2.2.2.2.2.2.2.1
theorem k0_off2360_inb : ∀ (v330 : BitVec 32) (k0_hw37 : k0_chk37 v330), ∀ a, (k0_off2360 v330) a + S1x1x1x8x128.size a ≤ S2x10x108x8x128.size a := fun v330 k0_hw37 => k0_hw37.2.1.2.2.2.2.2.2.2.2.2.2.2.2.2.2.2.2.2.1
theorem k0_off2363_inb : ∀ (v330 : BitVec 32) (k0_hw37 : k0_chk37 v330), ∀ a, (k0_off2363 v330) a + S1x1x1x8x128.size a ≤ S2x10x108x8x128.size a := fun v330 k0_hw37 => k0_hw37.2.1.2.2.2.2.2.2.2.2.2.2.2.2.2.2.2.2.2.2.1
theorem k0_off2365_inb : ∀ (v330 : BitVec 32) (k0_hw37 : k0_chk37 v330), ∀ a, (k0_off2365 v330) a + S1x1x1x8x128.size a ≤ S2x10x108x8x128.size a := fun v330 k0_hw37 => k0_hw37.2.1.2.2.2.2.2.2.2.2.2.2.2.2.2.2.2.2.2.2.2.1
theorem k0_off2368_inb : ∀ (v330 : BitVec 32) (k0_hw37 : k0_chk37 v330), ∀ a, (k0_off2368 v330) a + S1x1x1x8x128.size a ≤ S2x10x108x8x128.size a := fun v330 k0_hw37 => k0_hw37.2.1.2.2.2.2.2.2.2.2.2.2.2.2.2.2.2.2.2.2.2.2.1
theorem k0_off2370_inb : ∀ (v330 : BitVec 32) (k0_hw37 : k0_chk37 v330), ∀ a, (k0_off2370 v330) a + S1x1x1x8x128.size a ≤ S2x10x108x8x128.size a := fun v330 k0_hw37 => k0_hw37.2.1.2.2.2.2.2.2.2.2.2.2.2.2.2.2.2.2.2.2.2.2.2.1
theorem k0_off2373_inb : ∀ (v330 : BitVec 32) (k0_hw37 : k0_chk37 v330), ∀ a, (k0_off2373 v330) a + S1x1x1x8x128.size a ≤ S2x10x108x8x128.size a := fun v330 k0_hw37 => k0_hw37.2.1.2.2.2.2.2.2.2.2.2.2.2.2.2.2.2.2.2.2.2.2.2.2.1
theorem k0_off2375_inb : ∀ (v330 : BitVec 32) (k0_hw37 : k0_chk37 v330), ∀ a, (k0_off2375 v330) a + S1x1x1x8x128.size a ≤ S2x10x108x8x128.size a := fun v330 k0_hw37 => k0_hw37.2.1.2.2.2.2.2.2.2.2.2.2.2.2.2.2.2.2.2.2.2.2.2.2.2.1
theorem k0_off2378_inb : ∀ (v330 : BitVec 32) (k0_hw37 : k0_chk37 v330), ∀ a, (k0_off2378 v330) a + S1x1x1x8x128.size a ≤ S2x10x108x8x128.size a := fun v330 k0_hw37 => k0_hw37.2.1.2.2.2.2.2.2.2.2.2.2.2.2.2.2.2.2.2.2.2.2.2.2.2.2.1
theorem k0_off2380_inb : ∀ (v330 : BitVec 32) (k0_hw37 : k0_chk37 v330), ∀ a, (k0_off2380 v330) a + S1x1x1x8x128.size a ≤ S2x10x108x8x128.size a := fun v330 k0_hw37 => k0_hw37.2.1.2.2.2.2.2.2.2.2.2.2.2.2.2.2.2.2.2.2.2.2.2.2.2.2.2.1
theorem k0_off2383_inb : ∀ (v330 : BitVec 32) (k0_hw37 : k0_chk37 v330), ∀ a, (k0_off2383 v330) a + S1x1x1x8x128.size a ≤ S2x10x108x8x128.size a := fun v330 k0_hw37 => k0_hw37.2.1.2.2.2.2.2.2.2.2.2.2.2.2.2.2.2.2.2.2.2.2.2.2.2.2.2.2.1
theorem k0_off2385_inb : ∀ (v330 : BitVec 32) (k0_hw37 : k0_chk37 v330), ∀ a, (k0_off2385 v330) a + S1x1x1x8x128.size a ≤ S2x10x108x8x128.size a := fun v330 k0_hw37 => k0_hw37.2.1.2.2.2.2.2.2.2.2.2.2.2.2.2.2.2.2.2.2.2.2.2.2.2.2.2.2.2.1
theorem k0_off2388_inb : ∀ (v330 : BitVec 32) (k0_hw37 : k0_chk37 v330), ∀ a, (k0_off2388 v330) a + S1x1x1x8x128.size a ≤ S2x10x108x8x128.size a := fun v330 k0_hw37 => k0_hw37.2.1.2.2.2.2.2.2.2.2.2.2.2.2.2.2.2.2.2.2.2.2.2.2.2.2.2.2.2.2.1
theorem k0_off2390_inb : ∀ (v330 : BitVec 32) (k0_hw37 : k0_chk37 v330), ∀ a, (k0_off2390 v330) a + S1x1x1x8x128.size a ≤ S2x10x108x8x128.size a := fun v330 k0_hw37 => k0_hw37.2.1.2.2.2.2.2.2.2.2.2.2.2.2.2.2.2.2.2.2.2.2.2.2.2.2.2.2.2.2.2.1
theorem k0_off2393_inb : ∀ (v330 : BitVec 32) (k0_hw37 : k0_chk37 v330), ∀ a, (k0_off2393 v330) a + S1x1x1x8x128.size a ≤ S2x10x108x8x128.size a := fun v330 k0_hw37 => k0_hw37.2.1.2.2.2.2.2.2.2.2.2.2.2.2.2.2.2.2.2.2.2.2.2.2.2.2.2.2.2.2.2.2.1
theorem k0_off2395_inb : ∀ (v330 : BitVec 32) (k0_hw37 : k0_chk37 v330), ∀ a, (k0_off2395 v330) a + S1x1x1x8x128.size a ≤ S2x10x108x8x128.size a := fun v330 k0_hw37 => k0_hw37.2.1.2.2.2.2.2.2.2.2.2.2.2.2.2.2.2.2.2.2.2.2.2.2.2.2.2.2.2.2.2.2.2
theorem k0_off2398_inb : ∀ (v330 : BitVec 32) (k0_hw37 : k0_chk37 v330), ∀ a, (k0_off2398 v330) a + S1x1x1x8x128.size a ≤ S2x10x108x8x128.size a := fun v330 k0_hw37 => k0_hw37.2.2.1.1
theorem k0_off2400_inb : ∀ (v330 : BitVec 32) (k0_hw37 : k0_chk37 v330), ∀ a, (k0_off2400 v330) a + S1x1x1x8x128.size a ≤ S2x10x108x8x128.size a := fun v330 k0_hw37 => k0_hw37.2.2.1.2.1
theorem k0_off2403_inb : ∀ (v330 : BitVec 32) (k0_hw37 : k0_chk37 v330), ∀ a, (k0_off2403 v330) a + S1x1x1x8x128.size a ≤ S2x10x108x8x128.size a := fun v330 k0_hw37 => k0_hw37.2.2.1.2.2.1
theorem k0_off2405_inb : ∀ (v330 : BitVec 32) (k0_hw37 : k0_chk37 v330), ∀ a, (k0_off2405 v330) a + S1x1x1x8x128.size a ≤ S2x10x108x8x128.size a := fun v330 k0_hw37 => k0_hw37.2.2.1.2.2.2.1
theorem k0_off2408_inb : ∀ (v330 : BitVec 32) (k0_hw37 : k0_chk37 v330), ∀ a, (k0_off2408 v330) a + S1x1x1x8x128.size a ≤ S2x10x108x8x128.size a := fun v330 k0_hw37 => k0_hw37.2.2.1.2.2.2.2.1
theorem k0_off2410_inb : ∀ (v330 : BitVec 32) (k0_hw37 : k0_chk37 v330), ∀ a, (k0_off2410 v330) a + S1x1x1x8x128.size a ≤ S2x10x108x8x128.size a := fun v330 k0_hw37 => k0_hw37.2.2.1.2.2.2.2.2.1
theorem k0_off2413_inb : ∀ (v330 : BitVec 32) (k0_hw37 : k0_chk37 v330), ∀ a, (k0_off2413 v330) a + S1x1x1x8x128.size a ≤ S2x10x108x8x128.size a := fun v330 k0_hw37 => k0_hw37.2.2.1.2.2.2.2.2.2.1
theorem k0_off2415_inb : ∀ (v330 : BitVec 32) (k0_hw37 : k0_chk37 v330), ∀ a, (k0_off2415 v330) a + S1x1x1x8x128.size a ≤ S2x10x108x8x128.size a := fun v330 k0_hw37 => k0_hw37.2.2.1.2.2.2.2.2.2.2.1
theorem k0_off2418_inb : ∀ (v330 : BitVec 32) (k0_hw37 : k0_chk37 v330), ∀ a, (k0_off2418 v330) a + S1x1x1x8x128.size a ≤ S2x10x108x8x128.size a := fun v330 k0_hw37 => k0_hw37.2.2.1.2.2.2.2.2.2.2.2.1
theorem k0_off2420_inb : ∀ (v330 : BitVec 32) (k0_hw37 : k0_chk37 v330), ∀ a, (k0_off2420 v330) a + S1x1x1x8x128.size a ≤ S2x10x108x8x128.size a := fun v330 k0_hw37 => k0_hw37.2.2.1.2.2.2.2.2.2.2.2.2.1
theorem k0_off2423_inb : ∀ (v330 : BitVec 32) (k0_hw37 : k0_chk37 v330), ∀ a, (k0_off2423 v330) a + S1x1x1x8x128.size a ≤ S2x10x108x8x128.size a := fun v330 k0_hw37 => k0_hw37.2.2.1.2.2.2.2.2.2.2.2.2.2.1
theorem k0_off2425_inb : ∀ (v330 : BitVec 32) (k0_hw37 : k0_chk37 v330), ∀ a, (k0_off2425 v330) a + S1x1x1x8x128.size a ≤ S2x10x108x8x128.size a := fun v330 k0_hw37 => k0_hw37.2.2.1.2.2.2.2.2.2.2.2.2.2.2.1
theorem k0_off2428_inb : ∀ (v330 : BitVec 32) (k0_hw37 : k0_chk37 v330), ∀ a, (k0_off2428 v330) a + S1x1x1x8x128.size a ≤ S2x10x108x8x128.size a := fun v330 k0_hw37 => k0_hw37.2.2.1.2.2.2.2.2.2.2.2.2.2.2.2.1
theorem k0_off2430_inb : ∀ (v330 : BitVec 32) (k0_hw37 : k0_chk37 v330), ∀ a, (k0_off2430 v330) a + S1x1x1x8x128.size a ≤ S2x10x108x8x128.size a := fun v330 k0_hw37 => k0_hw37.2.2.1.2.2.2.2.2.2.2.2.2.2.2.2.2.1
theorem k0_off2433_inb : ∀ (v330 : BitVec 32) (k0_hw37 : k0_chk37 v330), ∀ a, (k0_off2433 v330) a + S1x1x1x8x128.size a ≤ S2x10x108x8x128.size a := fun v330 k0_hw37 => k0_hw37.2.2.1.2.2.2.2.2.2.2.2.2.2.2.2.2.2.1
theorem k0_off2435_inb : ∀ (v330 : BitVec 32) (k0_hw37 : k0_chk37 v330), ∀ a, (k0_off2435 v330) a + S1x1x1x8x128.size a ≤ S2x10x108x8x128.size a := fun v330 k0_hw37 => k0_hw37.2.2.1.2.2.2.2.2.2.2.2.2.2.2.2.2.2.2.1
theorem k0_off2438_inb : ∀ (v330 : BitVec 32) (k0_hw37 : k0_chk37 v330), ∀ a, (k0_off2438 v330) a + S1x1x1x8x128.size a ≤ S2x10x108x8x128.size a := fun v330 k0_hw37 => k0_hw37.2.2.1.2.2.2.2.2.2.2.2.2.2.2.2.2.2.2.2.1
theorem k0_off2440_inb : ∀ (v330 : BitVec 32) (k0_hw37 : k0_chk37 v330), ∀ a, (k0_off2440 v330) a + S1x1x1x8x128.size a ≤ S2x10x108x8x128.size a := fun v330 k0_hw37 => k0_hw37.2.2.1.2.2.2.2.2.2.2.2.2.2.2.2.2.2.2.2.2.1
theorem k0_off2443_inb : ∀ (v330 : BitVec 32) (k0_hw37 : k0_chk37 v330), ∀ a, (k0_off2443 v330) a + S1x1x1x8x128.size a ≤ S2x10x108x8x128.size a := fun v330 k0_hw37 => k0_hw37.2.2.1.2.2.2.2.2.2.2.2.2.2.2.2.2.2.2.2.2.2.1
theorem k0_off2445_inb : ∀ (v330 : BitVec 32) (k0_hw37 : k0_chk37 v330), ∀ a, (k0_off2445 v330) a + S1x1x1x8x128.size a ≤ S2x10x108x8x128.size a := fun v330 k0_hw37 => k0_hw37.2.2.1.2.2.2.2.2.2.2.2.2.2.2.2.2.2.2.2.2.2.2.1
theorem k0_off2448_inb : ∀ (v330 : BitVec 32) (k0_hw37 : k0_chk37 v330), ∀ a, (k0_off2448 v330) a + S1x1x1x8x128.size a ≤ S2x10x108x8x128.size a := fun v330 k0_hw37 => k0_hw37.2.2.1.2.2.2.2.2.2.2.2.2.2.2.2.2.2.2.2.2.2.2.2.1
theorem k0_off2450_inb : ∀ (v330 : BitVec 32) (k0_hw37 : k0_chk37 v330), ∀ a, (k0_off2450 v330) a + S1x1x1x8x128.size a ≤ S2x10x108x8x128.size a := fun v330 k0_hw37 => k0_hw37.2.2.1.2.2.2.2.2.2.2.2.2.2.2.2.2.2.2.2.2.2.2.2.2.1
theorem k0_off2453_inb : ∀ (v330 : BitVec 32) (k0_hw37 : k0_chk37 v330), ∀ a, (k0_off2453 v330) a + S1x1x1x8x128.size a ≤ S2x10x108x8x128.size a := fun v330 k0_hw37 => k0_hw37.2.2.1.2.2.2.2.2.2.2.2.2.2.2.2.2.2.2.2.2.2.2.2.2.2.1
theorem k0_off2455_inb : ∀ (v330 : BitVec 32) (k0_hw37 : k0_chk37 v330), ∀ a, (k0_off2455 v330) a + S1x1x1x8x128.size a ≤ S2x10x108x8x128.size a := fun v330 k0_hw37 => k0_hw37.2.2.1.2.2.2.2.2.2.2.2.2.2.2.2.2.2.2.2.2.2.2.2.2.2.2.1
theorem k0_off2458_inb : ∀ (v330 : BitVec 32) (k0_hw37 : k0_chk37 v330), ∀ a, (k0_off2458 v330) a + S1x1x1x8x128.size a ≤ S2x10x108x8x128.size a := fun v330 k0_hw37 => k0_hw37.2.2.1.2.2.2.2.2.2.2.2.2.2.2.2.2.2.2.2.2.2.2.2.2.2.2.2.1
theorem k0_off2460_inb : ∀ (v330 : BitVec 32) (k0_hw37 : k0_chk37 v330), ∀ a, (k0_off2460 v330) a + S1x1x1x8x128.size a ≤ S2x10x108x8x128.size a := fun v330 k0_hw37 => k0_hw37.2.2.1.2.2.2.2.2.2.2.2.2.2.2.2.2.2.2.2.2.2.2.2.2.2.2.2.2.1
theorem k0_off2463_inb : ∀ (v330 : BitVec 32) (k0_hw37 : k0_chk37 v330), ∀ a, (k0_off2463 v330) a + S1x1x1x8x128.size a ≤ S2x10x108x8x128.size a := fun v330 k0_hw37 => k0_hw37.2.2.1.2.2.2.2.2.2.2.2.2.2.2.2.2.2.2.2.2.2.2.2.2.2.2.2.2.2.1
theorem k0_off2465_inb : ∀ (v330 : BitVec 32) (k0_hw37 : k0_chk37 v330), ∀ a, (k0_off2465 v330) a + S1x1x1x8x128.size a ≤ S2x10x108x8x128.size a := fun v330 k0_hw37 => k0_hw37.2.2.1.2.2.2.2.2.2.2.2.2.2.2.2.2.2.2.2.2.2.2.2.2.2.2.2.2.2.2.1
theorem k0_off2468_inb : ∀ (v330 : BitVec 32) (k0_hw37 : k0_chk37 v330), ∀ a, (k0_off2468 v330) a + S1x1x1x8x128.size a ≤ S2x10x108x8x128.size a := fun v330 k0_hw37 => k0_hw37.2.2.1.2.2.2.2.2.2.2.2.2.2.2.2.2.2.2.2.2.2.2.2.2.2.2.2.2.2.2.2.1
theorem k0_off2470_inb : ∀ (v330 : BitVec 32) (k0_hw37 : k0_chk37 v330), ∀ a, (k0_off2470 v330) a + S1x1x1x8x128.size a ≤ S2x10x108x8x128.size a := fun v330 k0_hw37 => k0_hw37.2.2.1.2.2.2.2.2.2.2.2.2.2.2.2.2.2.2.2.2.2.2.2.2.2.2.2.2.2.2.2.2.1
theorem k0_off2473_inb : ∀ (v330 : BitVec 32) (k0_hw37 : k0_chk37 v330), ∀ a, (k0_off2473 v330) a + S1x1x1x8x128.size a ≤ S2x10x108x8x128.size a := fun v330 k0_hw37 => k0_hw37.2.2.1.2.2.2.2.2.2.2.2.2.2.2.2.2.2.2.2.2.2.2.2.2.2.2.2.2.2.2.2.2.2.1
theorem k0_off2475_inb : ∀ (v330 : BitVec 32) (k0_hw37 : k0_chk37 v330), ∀ a, (k0_off2475 v330) a + S1x1x1x8x128.size a ≤ S2x10x108x8x128.size a := fun v330 k0_hw37 => k0_hw37.2.2.1.2.2.2.2.2.2.2.2.2.2.2.2.2.2.2.2.2.2.2.2.2.2.2.2.2.2.2.2.2.2.2
theorem k0_off2478_inb : ∀ (v330 : BitVec 32) (k0_hw37 : k0_chk37 v330), ∀ a, (k0_off2478 v330) a + S1x1x1x8x128.size a ≤ S2x10x108x8x128.size a := fun v330 k0_hw37 => k0_hw37.2.2.2.1
theorem k0_off2480_inb : ∀ (v330 : BitVec 32) (k0_hw37 : k0_chk37 v330), ∀ a, (k0_off2480 v330) a + S1x1x1x8x128.size a ≤ S2x10x108x8x128.size a := fun v330 k0_hw37 => k0_hw37.2.2.2.2.1
theorem k0_off2483_inb : ∀ (v330 : BitVec 32) (k0_hw37 : k0_chk37 v330), ∀ a, (k0_off2483 v330) a + S1x1x1x8x128.size a ≤ S2x10x108x8x128.size a := fun v330 k0_hw37 => k0_hw37.2.2.2.2.2.1
theorem k0_off2485_inb : ∀ (v330 : BitVec 32) (k0_hw37 : k0_chk37 v330), ∀ a, (k0_off2485 v330) a + S1x1x1x8x128.size a ≤ S2x10x108x8x128.size a := fun v330 k0_hw37 => k0_hw37.2.2.2.2.2.2.1
theorem k0_off2488_inb : ∀ (v330 : BitVec 32) (k0_hw37 : k0_chk37 v330), ∀ a, (k0_off2488 v330) a + S1x1x1x8x128.size a ≤ S2x10x108x8x128.size a := fun v330 k0_hw37 => k0_hw37.2.2.2.2.2.2.2.1
theorem k0_off2490_inb : ∀ (v330 : BitVec 32) (k0_hw37 : k0_chk37 v330), ∀ a, (k0_off2490 v330) a + S1x1x1x8x128.size a ≤ S2x10x108x8x128.size a := fun v330 k0_hw37 => k0_hw37.2.2.2.2.2.2.2.2.1
theorem k0_off2493_inb : ∀ (v330 : BitVec 32) (k0_hw37 : k0_chk37 v330), ∀ a, (k0_off2493 v330) a + S1x1x1x8x128.size a ≤ S2x10x108x8x128.size a := fun v330 k0_hw37 => k0_hw37.2.2.2.2.2.2.2.2.2.1
theorem k0_off2495_inb : ∀ (v330 : BitVec 32) (k0_hw37 : k0_chk37 v330), ∀ a, (k0_off2495 v330) a + S1x1x1x8x128.size a ≤ S2x10x108x8x128.size a := fun v330 k0_hw37 => k0_hw37.2.2.2.2.2.2.2.2.2.2.1
theorem k0_off2498_inb : ∀ (v330 : BitVec 32) (k0_hw37 : k0_chk37 v330), ∀ a, (k0_off2498 v330) a + S1x1x1x8x128.size a ≤ S2x10x108x8x128.size a := fun v330 k0_hw37 => k0_hw37.2.2.2.2.2.2.2.2.2.2.2.1
theorem k0_off2500_inb : ∀ (v330 : BitVec 32) (k0_hw37 : k0_chk37 v330), ∀ a, (k0_off2500 v330) a + S1x1x1x8x128.size a ≤ S2x10x108x8x128.size a := fun v330 k0_hw37 => k0_hw37.2.2.2.2.2.2.2.2.2.2.2.2.1
theorem k0_off2503_inb : ∀ (v330 : BitVec 32) (k0_hw37 : k0_chk37 v330), ∀ a, (k0_off2503 v330) a + S1x1x1x8x128.size a ≤ S2x10x108x8x128.size a := fun v330 k0_hw37 => k0_hw37.2.2.2.2.2.2.2.2.2.2.2.2.2.1
theorem k0_off2505_inb : ∀ (v330 : BitVec 32) (k0_hw37 : k0_chk37 v330), ∀ a, (k0_off2505 v330) a + S1x1x1x8x128.size a ≤ S2x10x108x8x128.size a := fun v330 k0_hw37 => k0_hw37.2.2.2.2.2.2.2.2.2.2.2.2.2.2

def k0_off2506 (v1 : BitVec 32) (k0_t51 : Fin (k0_t51_loop v1).trips) (v228 : BitVec 32) (v257 : BitVec 32) (k0_t55 : Fin (k0_t55_loop v228 v257).trips) : Fin 5 → Nat :=
  let c0_1447 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v3024 : Index := Scalar.indexCast v226
  let c107_1448 : Index := 107#32
  let c0_i32_406 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v274 : BitVec 32 := Scalar.subi v265 c0_i32_406
  let c1_i32_407 : BitVec 32 := 1#32
  let v276 : BitVec 32 := Scalar.divsi v274 c1_i32_407
  let v277 : BitVec 32 := Scalar.muli v276 c1_i32_407
  let v278 : BitVec 32 := Scalar.addi c0_i32_406 v277
  let c1_i32_409 : BitVec 32 := 1#32
  let arg19 : BitVec 32 := Scf.iv v278 c1_i32_409 k0_t55
  let c16_i32_473 : BitVec 32 := 16#32
  let v381 : BitVec 32 := Scalar.muli arg19 c16_i32_473
  let v382 : BitVec 32 := v381
  let v3025 : Index := Scalar.indexCast v382
  let c0_1449 : Index := 0#32
  ![0, v3024.toNat, 107, v3025.toNat, 0]
@[reducible] def k0_t56_loop (v228 : BitVec 32) (v257 : BitVec 32) : Scf.Loop 32 :=
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_413 : BitVec 32 := 1#32
  ⟨v265, v283, c1_i32_413⟩
def k0_mult20 (v228 : BitVec 32) (v257 : BitVec 32) (k0_t56 : Fin (k0_t56_loop v228 v257).trips) : BitVec 32 :=
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  v326
def k0_off2507 (v1 : BitVec 32) (k0_t51 : Fin (k0_t51_loop v1).trips) (v228 : BitVec 32) (v257 : BitVec 32) (k0_t56 : Fin (k0_t56_loop v228 v257).trips) : Fin 5 → Nat :=
  let c0 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v329 : Index := Scalar.indexCast v226
  let c0_453 : Index := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v330 : Index := Scalar.indexCast v327
  let c0_454 : Index := 0#32
  ![0, v329.toNat, 0, v330.toNat, 0]
def k0_off2508 (v1 : BitVec 32) (k0_t51 : Fin (k0_t51_loop v1).trips) (v228 : BitVec 32) (v257 : BitVec 32) (k0_t56 : Fin (k0_t56_loop v228 v257).trips) : Fin 5 → Nat :=
  let c0_456 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v335 : Index := Scalar.indexCast v226
  let c1 : Index := 1#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v336 : Index := Scalar.indexCast v327
  let c0_457 : Index := 0#32
  ![0, v335.toNat, 1, v336.toNat, 0]
def k0_off2509 (v1 : BitVec 32) (k0_t51 : Fin (k0_t51_loop v1).trips) (v228 : BitVec 32) (v257 : BitVec 32) (k0_t56 : Fin (k0_t56_loop v228 v257).trips) : Fin 5 → Nat :=
  let c0_459 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v341 : Index := Scalar.indexCast v226
  let c2 : Index := 2#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v342 : Index := Scalar.indexCast v327
  let c0_460 : Index := 0#32
  ![0, v341.toNat, 2, v342.toNat, 0]
def k0_off2510 (v1 : BitVec 32) (k0_t51 : Fin (k0_t51_loop v1).trips) (v228 : BitVec 32) (v257 : BitVec 32) (k0_t56 : Fin (k0_t56_loop v228 v257).trips) : Fin 5 → Nat :=
  let c0_462 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v347 : Index := Scalar.indexCast v226
  let c3 : Index := 3#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v348 : Index := Scalar.indexCast v327
  let c0_463 : Index := 0#32
  ![0, v347.toNat, 3, v348.toNat, 0]
def k0_off2511 (v1 : BitVec 32) (k0_t51 : Fin (k0_t51_loop v1).trips) (v228 : BitVec 32) (v257 : BitVec 32) (k0_t56 : Fin (k0_t56_loop v228 v257).trips) : Fin 5 → Nat :=
  let c0_465 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v353 : Index := Scalar.indexCast v226
  let c4 : Index := 4#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v354 : Index := Scalar.indexCast v327
  let c0_466 : Index := 0#32
  ![0, v353.toNat, 4, v354.toNat, 0]
def k0_off2512 (v1 : BitVec 32) (k0_t51 : Fin (k0_t51_loop v1).trips) (v228 : BitVec 32) (v257 : BitVec 32) (k0_t56 : Fin (k0_t56_loop v228 v257).trips) : Fin 5 → Nat :=
  let c0_468 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v359 : Index := Scalar.indexCast v226
  let c5 : Index := 5#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v360 : Index := Scalar.indexCast v327
  let c0_469 : Index := 0#32
  ![0, v359.toNat, 5, v360.toNat, 0]
def k0_off2513 (v1 : BitVec 32) (k0_t51 : Fin (k0_t51_loop v1).trips) (v228 : BitVec 32) (v257 : BitVec 32) (k0_t56 : Fin (k0_t56_loop v228 v257).trips) : Fin 5 → Nat :=
  let c0_471 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v365 : Index := Scalar.indexCast v226
  let c6 : Index := 6#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v366 : Index := Scalar.indexCast v327
  let c0_472 : Index := 0#32
  ![0, v365.toNat, 6, v366.toNat, 0]
def k0_off2514 (v1 : BitVec 32) (k0_t51 : Fin (k0_t51_loop v1).trips) (v228 : BitVec 32) (v257 : BitVec 32) (k0_t56 : Fin (k0_t56_loop v228 v257).trips) : Fin 5 → Nat :=
  let c0_474 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v371 : Index := Scalar.indexCast v226
  let c7 : Index := 7#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v372 : Index := Scalar.indexCast v327
  let c0_475 : Index := 0#32
  ![0, v371.toNat, 7, v372.toNat, 0]
def k0_off2515 (v1 : BitVec 32) (k0_t51 : Fin (k0_t51_loop v1).trips) (v228 : BitVec 32) (v257 : BitVec 32) (k0_t56 : Fin (k0_t56_loop v228 v257).trips) : Fin 5 → Nat :=
  let c0_477 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v377 : Index := Scalar.indexCast v226
  let c8 : Index := 8#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v378 : Index := Scalar.indexCast v327
  let c0_478 : Index := 0#32
  ![0, v377.toNat, 8, v378.toNat, 0]
def k0_off2516 (v1 : BitVec 32) (k0_t51 : Fin (k0_t51_loop v1).trips) (v228 : BitVec 32) (v257 : BitVec 32) (k0_t56 : Fin (k0_t56_loop v228 v257).trips) : Fin 5 → Nat :=
  let c0_480 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v383 : Index := Scalar.indexCast v226
  let c9 : Index := 9#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v384 : Index := Scalar.indexCast v327
  let c0_481 : Index := 0#32
  ![0, v383.toNat, 9, v384.toNat, 0]
def k0_off2517 (v1 : BitVec 32) (k0_t51 : Fin (k0_t51_loop v1).trips) (v228 : BitVec 32) (v257 : BitVec 32) (k0_t56 : Fin (k0_t56_loop v228 v257).trips) : Fin 5 → Nat :=
  let c0_483 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v389 : Index := Scalar.indexCast v226
  let c10 : Index := 10#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v390 : Index := Scalar.indexCast v327
  let c0_484 : Index := 0#32
  ![0, v389.toNat, 10, v390.toNat, 0]
def k0_off2518 (v1 : BitVec 32) (k0_t51 : Fin (k0_t51_loop v1).trips) (v228 : BitVec 32) (v257 : BitVec 32) (k0_t56 : Fin (k0_t56_loop v228 v257).trips) : Fin 5 → Nat :=
  let c0_486 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v395 : Index := Scalar.indexCast v226
  let c11 : Index := 11#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v396 : Index := Scalar.indexCast v327
  let c0_487 : Index := 0#32
  ![0, v395.toNat, 11, v396.toNat, 0]
def k0_off2519 (v1 : BitVec 32) (k0_t51 : Fin (k0_t51_loop v1).trips) (v228 : BitVec 32) (v257 : BitVec 32) (k0_t56 : Fin (k0_t56_loop v228 v257).trips) : Fin 5 → Nat :=
  let c0_489 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v401 : Index := Scalar.indexCast v226
  let c12 : Index := 12#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v402 : Index := Scalar.indexCast v327
  let c0_490 : Index := 0#32
  ![0, v401.toNat, 12, v402.toNat, 0]
def k0_off2520 (v1 : BitVec 32) (k0_t51 : Fin (k0_t51_loop v1).trips) (v228 : BitVec 32) (v257 : BitVec 32) (k0_t56 : Fin (k0_t56_loop v228 v257).trips) : Fin 5 → Nat :=
  let c0_492 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v407 : Index := Scalar.indexCast v226
  let c13 : Index := 13#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v408 : Index := Scalar.indexCast v327
  let c0_493 : Index := 0#32
  ![0, v407.toNat, 13, v408.toNat, 0]
def k0_off2521 (v1 : BitVec 32) (k0_t51 : Fin (k0_t51_loop v1).trips) (v228 : BitVec 32) (v257 : BitVec 32) (k0_t56 : Fin (k0_t56_loop v228 v257).trips) : Fin 5 → Nat :=
  let c0_495 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v413 : Index := Scalar.indexCast v226
  let c14 : Index := 14#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v414 : Index := Scalar.indexCast v327
  let c0_496 : Index := 0#32
  ![0, v413.toNat, 14, v414.toNat, 0]
def k0_off2522 (v1 : BitVec 32) (k0_t51 : Fin (k0_t51_loop v1).trips) (v228 : BitVec 32) (v257 : BitVec 32) (k0_t56 : Fin (k0_t56_loop v228 v257).trips) : Fin 5 → Nat :=
  let c0_498 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v419 : Index := Scalar.indexCast v226
  let c15 : Index := 15#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v420 : Index := Scalar.indexCast v327
  let c0_499 : Index := 0#32
  ![0, v419.toNat, 15, v420.toNat, 0]
def k0_off2523 (v1 : BitVec 32) (k0_t51 : Fin (k0_t51_loop v1).trips) (v228 : BitVec 32) (v257 : BitVec 32) (k0_t56 : Fin (k0_t56_loop v228 v257).trips) : Fin 5 → Nat :=
  let c0_501 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v425 : Index := Scalar.indexCast v226
  let c16 : Index := 16#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v426 : Index := Scalar.indexCast v327
  let c0_502 : Index := 0#32
  ![0, v425.toNat, 16, v426.toNat, 0]
def k0_off2524 (v1 : BitVec 32) (k0_t51 : Fin (k0_t51_loop v1).trips) (v228 : BitVec 32) (v257 : BitVec 32) (k0_t56 : Fin (k0_t56_loop v228 v257).trips) : Fin 5 → Nat :=
  let c0_504 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v431 : Index := Scalar.indexCast v226
  let c17 : Index := 17#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v432 : Index := Scalar.indexCast v327
  let c0_505 : Index := 0#32
  ![0, v431.toNat, 17, v432.toNat, 0]
def k0_off2525 (v1 : BitVec 32) (k0_t51 : Fin (k0_t51_loop v1).trips) (v228 : BitVec 32) (v257 : BitVec 32) (k0_t56 : Fin (k0_t56_loop v228 v257).trips) : Fin 5 → Nat :=
  let c0_507 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v437 : Index := Scalar.indexCast v226
  let c18 : Index := 18#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v438 : Index := Scalar.indexCast v327
  let c0_508 : Index := 0#32
  ![0, v437.toNat, 18, v438.toNat, 0]
def k0_off2526 (v1 : BitVec 32) (k0_t51 : Fin (k0_t51_loop v1).trips) (v228 : BitVec 32) (v257 : BitVec 32) (k0_t56 : Fin (k0_t56_loop v228 v257).trips) : Fin 5 → Nat :=
  let c0_510 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v443 : Index := Scalar.indexCast v226
  let c19 : Index := 19#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v444 : Index := Scalar.indexCast v327
  let c0_511 : Index := 0#32
  ![0, v443.toNat, 19, v444.toNat, 0]
def k0_off2527 (v1 : BitVec 32) (k0_t51 : Fin (k0_t51_loop v1).trips) (v228 : BitVec 32) (v257 : BitVec 32) (k0_t56 : Fin (k0_t56_loop v228 v257).trips) : Fin 5 → Nat :=
  let c0_513 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v449 : Index := Scalar.indexCast v226
  let c20 : Index := 20#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v450 : Index := Scalar.indexCast v327
  let c0_514 : Index := 0#32
  ![0, v449.toNat, 20, v450.toNat, 0]
def k0_off2528 (v1 : BitVec 32) (k0_t51 : Fin (k0_t51_loop v1).trips) (v228 : BitVec 32) (v257 : BitVec 32) (k0_t56 : Fin (k0_t56_loop v228 v257).trips) : Fin 5 → Nat :=
  let c0_516 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v455 : Index := Scalar.indexCast v226
  let c21 : Index := 21#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v456 : Index := Scalar.indexCast v327
  let c0_517 : Index := 0#32
  ![0, v455.toNat, 21, v456.toNat, 0]
def k0_off2529 (v1 : BitVec 32) (k0_t51 : Fin (k0_t51_loop v1).trips) (v228 : BitVec 32) (v257 : BitVec 32) (k0_t56 : Fin (k0_t56_loop v228 v257).trips) : Fin 5 → Nat :=
  let c0_519 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v461 : Index := Scalar.indexCast v226
  let c22 : Index := 22#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v462 : Index := Scalar.indexCast v327
  let c0_520 : Index := 0#32
  ![0, v461.toNat, 22, v462.toNat, 0]
def k0_off2530 (v1 : BitVec 32) (k0_t51 : Fin (k0_t51_loop v1).trips) (v228 : BitVec 32) (v257 : BitVec 32) (k0_t56 : Fin (k0_t56_loop v228 v257).trips) : Fin 5 → Nat :=
  let c0_522 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v467 : Index := Scalar.indexCast v226
  let c23 : Index := 23#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v468 : Index := Scalar.indexCast v327
  let c0_523 : Index := 0#32
  ![0, v467.toNat, 23, v468.toNat, 0]
def k0_off2531 (v1 : BitVec 32) (k0_t51 : Fin (k0_t51_loop v1).trips) (v228 : BitVec 32) (v257 : BitVec 32) (k0_t56 : Fin (k0_t56_loop v228 v257).trips) : Fin 5 → Nat :=
  let c0_525 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v473 : Index := Scalar.indexCast v226
  let c24 : Index := 24#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v474 : Index := Scalar.indexCast v327
  let c0_526 : Index := 0#32
  ![0, v473.toNat, 24, v474.toNat, 0]
def k0_off2532 (v1 : BitVec 32) (k0_t51 : Fin (k0_t51_loop v1).trips) (v228 : BitVec 32) (v257 : BitVec 32) (k0_t56 : Fin (k0_t56_loop v228 v257).trips) : Fin 5 → Nat :=
  let c0_528 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v479 : Index := Scalar.indexCast v226
  let c25 : Index := 25#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v480 : Index := Scalar.indexCast v327
  let c0_529 : Index := 0#32
  ![0, v479.toNat, 25, v480.toNat, 0]
def k0_off2533 (v1 : BitVec 32) (k0_t51 : Fin (k0_t51_loop v1).trips) (v228 : BitVec 32) (v257 : BitVec 32) (k0_t56 : Fin (k0_t56_loop v228 v257).trips) : Fin 5 → Nat :=
  let c0_531 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v485 : Index := Scalar.indexCast v226
  let c26 : Index := 26#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v486 : Index := Scalar.indexCast v327
  let c0_532 : Index := 0#32
  ![0, v485.toNat, 26, v486.toNat, 0]
def k0_off2534 (v1 : BitVec 32) (k0_t51 : Fin (k0_t51_loop v1).trips) (v228 : BitVec 32) (v257 : BitVec 32) (k0_t56 : Fin (k0_t56_loop v228 v257).trips) : Fin 5 → Nat :=
  let c0_534 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v491 : Index := Scalar.indexCast v226
  let c27 : Index := 27#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v492 : Index := Scalar.indexCast v327
  let c0_535 : Index := 0#32
  ![0, v491.toNat, 27, v492.toNat, 0]
def k0_off2535 (v1 : BitVec 32) (k0_t51 : Fin (k0_t51_loop v1).trips) (v228 : BitVec 32) (v257 : BitVec 32) (k0_t56 : Fin (k0_t56_loop v228 v257).trips) : Fin 5 → Nat :=
  let c0_537 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v497 : Index := Scalar.indexCast v226
  let c28 : Index := 28#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v498 : Index := Scalar.indexCast v327
  let c0_538 : Index := 0#32
  ![0, v497.toNat, 28, v498.toNat, 0]
def k0_off2536 (v1 : BitVec 32) (k0_t51 : Fin (k0_t51_loop v1).trips) (v228 : BitVec 32) (v257 : BitVec 32) (k0_t56 : Fin (k0_t56_loop v228 v257).trips) : Fin 5 → Nat :=
  let c0_540 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v503 : Index := Scalar.indexCast v226
  let c29 : Index := 29#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v504 : Index := Scalar.indexCast v327
  let c0_541 : Index := 0#32
  ![0, v503.toNat, 29, v504.toNat, 0]
def k0_off2537 (v1 : BitVec 32) (k0_t51 : Fin (k0_t51_loop v1).trips) (v228 : BitVec 32) (v257 : BitVec 32) (k0_t56 : Fin (k0_t56_loop v228 v257).trips) : Fin 5 → Nat :=
  let c0_543 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v509 : Index := Scalar.indexCast v226
  let c30 : Index := 30#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v510 : Index := Scalar.indexCast v327
  let c0_544 : Index := 0#32
  ![0, v509.toNat, 30, v510.toNat, 0]
def k0_off2538 (v1 : BitVec 32) (k0_t51 : Fin (k0_t51_loop v1).trips) (v228 : BitVec 32) (v257 : BitVec 32) (k0_t56 : Fin (k0_t56_loop v228 v257).trips) : Fin 5 → Nat :=
  let c0_546 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v515 : Index := Scalar.indexCast v226
  let c31 : Index := 31#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v516 : Index := Scalar.indexCast v327
  let c0_547 : Index := 0#32
  ![0, v515.toNat, 31, v516.toNat, 0]
def k0_off2539 (v1 : BitVec 32) (k0_t51 : Fin (k0_t51_loop v1).trips) (v228 : BitVec 32) (v257 : BitVec 32) (k0_t56 : Fin (k0_t56_loop v228 v257).trips) : Fin 5 → Nat :=
  let c0_549 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v521 : Index := Scalar.indexCast v226
  let c32 : Index := 32#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v522 : Index := Scalar.indexCast v327
  let c0_550 : Index := 0#32
  ![0, v521.toNat, 32, v522.toNat, 0]
def k0_off2540 (v1 : BitVec 32) (k0_t51 : Fin (k0_t51_loop v1).trips) (v228 : BitVec 32) (v257 : BitVec 32) (k0_t56 : Fin (k0_t56_loop v228 v257).trips) : Fin 5 → Nat :=
  let c0_552 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v527 : Index := Scalar.indexCast v226
  let c33 : Index := 33#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v528 : Index := Scalar.indexCast v327
  let c0_553 : Index := 0#32
  ![0, v527.toNat, 33, v528.toNat, 0]
def k0_off2541 (v1 : BitVec 32) (k0_t51 : Fin (k0_t51_loop v1).trips) (v228 : BitVec 32) (v257 : BitVec 32) (k0_t56 : Fin (k0_t56_loop v228 v257).trips) : Fin 5 → Nat :=
  let c0_555 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v533 : Index := Scalar.indexCast v226
  let c34 : Index := 34#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v534 : Index := Scalar.indexCast v327
  let c0_556 : Index := 0#32
  ![0, v533.toNat, 34, v534.toNat, 0]
def k0_off2542 (v1 : BitVec 32) (k0_t51 : Fin (k0_t51_loop v1).trips) (v228 : BitVec 32) (v257 : BitVec 32) (k0_t56 : Fin (k0_t56_loop v228 v257).trips) : Fin 5 → Nat :=
  let c0_558 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v539 : Index := Scalar.indexCast v226
  let c35 : Index := 35#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v540 : Index := Scalar.indexCast v327
  let c0_559 : Index := 0#32
  ![0, v539.toNat, 35, v540.toNat, 0]
def k0_off2543 (v1 : BitVec 32) (k0_t51 : Fin (k0_t51_loop v1).trips) (v228 : BitVec 32) (v257 : BitVec 32) (k0_t56 : Fin (k0_t56_loop v228 v257).trips) : Fin 5 → Nat :=
  let c0_561 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v545 : Index := Scalar.indexCast v226
  let c36 : Index := 36#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v546 : Index := Scalar.indexCast v327
  let c0_562 : Index := 0#32
  ![0, v545.toNat, 36, v546.toNat, 0]
def k0_off2544 (v1 : BitVec 32) (k0_t51 : Fin (k0_t51_loop v1).trips) (v228 : BitVec 32) (v257 : BitVec 32) (k0_t56 : Fin (k0_t56_loop v228 v257).trips) : Fin 5 → Nat :=
  let c0_564 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v551 : Index := Scalar.indexCast v226
  let c37 : Index := 37#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v552 : Index := Scalar.indexCast v327
  let c0_565 : Index := 0#32
  ![0, v551.toNat, 37, v552.toNat, 0]
def k0_off2545 (v1 : BitVec 32) (k0_t51 : Fin (k0_t51_loop v1).trips) (v228 : BitVec 32) (v257 : BitVec 32) (k0_t56 : Fin (k0_t56_loop v228 v257).trips) : Fin 5 → Nat :=
  let c0_567 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v557 : Index := Scalar.indexCast v226
  let c38 : Index := 38#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v558 : Index := Scalar.indexCast v327
  let c0_568 : Index := 0#32
  ![0, v557.toNat, 38, v558.toNat, 0]
def k0_off2546 (v1 : BitVec 32) (k0_t51 : Fin (k0_t51_loop v1).trips) (v228 : BitVec 32) (v257 : BitVec 32) (k0_t56 : Fin (k0_t56_loop v228 v257).trips) : Fin 5 → Nat :=
  let c0_570 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v563 : Index := Scalar.indexCast v226
  let c39 : Index := 39#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v564 : Index := Scalar.indexCast v327
  let c0_571 : Index := 0#32
  ![0, v563.toNat, 39, v564.toNat, 0]
def k0_off2547 (v1 : BitVec 32) (k0_t51 : Fin (k0_t51_loop v1).trips) (v228 : BitVec 32) (v257 : BitVec 32) (k0_t56 : Fin (k0_t56_loop v228 v257).trips) : Fin 5 → Nat :=
  let c0_573 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v569 : Index := Scalar.indexCast v226
  let c40 : Index := 40#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v570 : Index := Scalar.indexCast v327
  let c0_574 : Index := 0#32
  ![0, v569.toNat, 40, v570.toNat, 0]
def k0_off2548 (v1 : BitVec 32) (k0_t51 : Fin (k0_t51_loop v1).trips) (v228 : BitVec 32) (v257 : BitVec 32) (k0_t56 : Fin (k0_t56_loop v228 v257).trips) : Fin 5 → Nat :=
  let c0_576 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v575 : Index := Scalar.indexCast v226
  let c41 : Index := 41#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v576 : Index := Scalar.indexCast v327
  let c0_577 : Index := 0#32
  ![0, v575.toNat, 41, v576.toNat, 0]
def k0_off2549 (v1 : BitVec 32) (k0_t51 : Fin (k0_t51_loop v1).trips) (v228 : BitVec 32) (v257 : BitVec 32) (k0_t56 : Fin (k0_t56_loop v228 v257).trips) : Fin 5 → Nat :=
  let c0_579 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v581 : Index := Scalar.indexCast v226
  let c42 : Index := 42#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v582 : Index := Scalar.indexCast v327
  let c0_580 : Index := 0#32
  ![0, v581.toNat, 42, v582.toNat, 0]
def k0_off2550 (v1 : BitVec 32) (k0_t51 : Fin (k0_t51_loop v1).trips) (v228 : BitVec 32) (v257 : BitVec 32) (k0_t56 : Fin (k0_t56_loop v228 v257).trips) : Fin 5 → Nat :=
  let c0_582 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v587 : Index := Scalar.indexCast v226
  let c43 : Index := 43#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v588 : Index := Scalar.indexCast v327
  let c0_583 : Index := 0#32
  ![0, v587.toNat, 43, v588.toNat, 0]
def k0_off2551 (v1 : BitVec 32) (k0_t51 : Fin (k0_t51_loop v1).trips) (v228 : BitVec 32) (v257 : BitVec 32) (k0_t56 : Fin (k0_t56_loop v228 v257).trips) : Fin 5 → Nat :=
  let c0_585 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v593 : Index := Scalar.indexCast v226
  let c44 : Index := 44#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v594 : Index := Scalar.indexCast v327
  let c0_586 : Index := 0#32
  ![0, v593.toNat, 44, v594.toNat, 0]
def k0_off2552 (v1 : BitVec 32) (k0_t51 : Fin (k0_t51_loop v1).trips) (v228 : BitVec 32) (v257 : BitVec 32) (k0_t56 : Fin (k0_t56_loop v228 v257).trips) : Fin 5 → Nat :=
  let c0_588 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v599 : Index := Scalar.indexCast v226
  let c45 : Index := 45#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v600 : Index := Scalar.indexCast v327
  let c0_589 : Index := 0#32
  ![0, v599.toNat, 45, v600.toNat, 0]
def k0_off2553 (v1 : BitVec 32) (k0_t51 : Fin (k0_t51_loop v1).trips) (v228 : BitVec 32) (v257 : BitVec 32) (k0_t56 : Fin (k0_t56_loop v228 v257).trips) : Fin 5 → Nat :=
  let c0_591 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v605 : Index := Scalar.indexCast v226
  let c46 : Index := 46#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v606 : Index := Scalar.indexCast v327
  let c0_592 : Index := 0#32
  ![0, v605.toNat, 46, v606.toNat, 0]
def k0_off2554 (v1 : BitVec 32) (k0_t51 : Fin (k0_t51_loop v1).trips) (v228 : BitVec 32) (v257 : BitVec 32) (k0_t56 : Fin (k0_t56_loop v228 v257).trips) : Fin 5 → Nat :=
  let c0_594 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v611 : Index := Scalar.indexCast v226
  let c47 : Index := 47#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v612 : Index := Scalar.indexCast v327
  let c0_595 : Index := 0#32
  ![0, v611.toNat, 47, v612.toNat, 0]
def k0_off2555 (v1 : BitVec 32) (k0_t51 : Fin (k0_t51_loop v1).trips) (v228 : BitVec 32) (v257 : BitVec 32) (k0_t56 : Fin (k0_t56_loop v228 v257).trips) : Fin 5 → Nat :=
  let c0_597 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v617 : Index := Scalar.indexCast v226
  let c48 : Index := 48#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v618 : Index := Scalar.indexCast v327
  let c0_598 : Index := 0#32
  ![0, v617.toNat, 48, v618.toNat, 0]
def k0_off2556 (v1 : BitVec 32) (k0_t51 : Fin (k0_t51_loop v1).trips) (v228 : BitVec 32) (v257 : BitVec 32) (k0_t56 : Fin (k0_t56_loop v228 v257).trips) : Fin 5 → Nat :=
  let c0_600 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v623 : Index := Scalar.indexCast v226
  let c49 : Index := 49#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v624 : Index := Scalar.indexCast v327
  let c0_601 : Index := 0#32
  ![0, v623.toNat, 49, v624.toNat, 0]
def k0_off2557 (v1 : BitVec 32) (k0_t51 : Fin (k0_t51_loop v1).trips) (v228 : BitVec 32) (v257 : BitVec 32) (k0_t56 : Fin (k0_t56_loop v228 v257).trips) : Fin 5 → Nat :=
  let c0_603 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v629 : Index := Scalar.indexCast v226
  let c50 : Index := 50#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v630 : Index := Scalar.indexCast v327
  let c0_604 : Index := 0#32
  ![0, v629.toNat, 50, v630.toNat, 0]
def k0_off2558 (v1 : BitVec 32) (k0_t51 : Fin (k0_t51_loop v1).trips) (v228 : BitVec 32) (v257 : BitVec 32) (k0_t56 : Fin (k0_t56_loop v228 v257).trips) : Fin 5 → Nat :=
  let c0_606 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v635 : Index := Scalar.indexCast v226
  let c51 : Index := 51#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v636 : Index := Scalar.indexCast v327
  let c0_607 : Index := 0#32
  ![0, v635.toNat, 51, v636.toNat, 0]
def k0_off2559 (v1 : BitVec 32) (k0_t51 : Fin (k0_t51_loop v1).trips) (v228 : BitVec 32) (v257 : BitVec 32) (k0_t56 : Fin (k0_t56_loop v228 v257).trips) : Fin 5 → Nat :=
  let c0_609 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v641 : Index := Scalar.indexCast v226
  let c52 : Index := 52#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v642 : Index := Scalar.indexCast v327
  let c0_610 : Index := 0#32
  ![0, v641.toNat, 52, v642.toNat, 0]
def k0_off2560 (v1 : BitVec 32) (k0_t51 : Fin (k0_t51_loop v1).trips) (v228 : BitVec 32) (v257 : BitVec 32) (k0_t56 : Fin (k0_t56_loop v228 v257).trips) : Fin 5 → Nat :=
  let c0_612 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v647 : Index := Scalar.indexCast v226
  let c53 : Index := 53#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v648 : Index := Scalar.indexCast v327
  let c0_613 : Index := 0#32
  ![0, v647.toNat, 53, v648.toNat, 0]
def k0_off2561 (v1 : BitVec 32) (k0_t51 : Fin (k0_t51_loop v1).trips) (v228 : BitVec 32) (v257 : BitVec 32) (k0_t56 : Fin (k0_t56_loop v228 v257).trips) : Fin 5 → Nat :=
  let c0_615 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v653 : Index := Scalar.indexCast v226
  let c54 : Index := 54#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v654 : Index := Scalar.indexCast v327
  let c0_616 : Index := 0#32
  ![0, v653.toNat, 54, v654.toNat, 0]
def k0_off2562 (v1 : BitVec 32) (k0_t51 : Fin (k0_t51_loop v1).trips) (v228 : BitVec 32) (v257 : BitVec 32) (k0_t56 : Fin (k0_t56_loop v228 v257).trips) : Fin 5 → Nat :=
  let c0_618 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v659 : Index := Scalar.indexCast v226
  let c55 : Index := 55#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v660 : Index := Scalar.indexCast v327
  let c0_619 : Index := 0#32
  ![0, v659.toNat, 55, v660.toNat, 0]
def k0_off2563 (v1 : BitVec 32) (k0_t51 : Fin (k0_t51_loop v1).trips) (v228 : BitVec 32) (v257 : BitVec 32) (k0_t56 : Fin (k0_t56_loop v228 v257).trips) : Fin 5 → Nat :=
  let c0_621 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v665 : Index := Scalar.indexCast v226
  let c56 : Index := 56#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v666 : Index := Scalar.indexCast v327
  let c0_622 : Index := 0#32
  ![0, v665.toNat, 56, v666.toNat, 0]
def k0_off2564 (v1 : BitVec 32) (k0_t51 : Fin (k0_t51_loop v1).trips) (v228 : BitVec 32) (v257 : BitVec 32) (k0_t56 : Fin (k0_t56_loop v228 v257).trips) : Fin 5 → Nat :=
  let c0_624 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v671 : Index := Scalar.indexCast v226
  let c57 : Index := 57#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v672 : Index := Scalar.indexCast v327
  let c0_625 : Index := 0#32
  ![0, v671.toNat, 57, v672.toNat, 0]
def k0_off2565 (v1 : BitVec 32) (k0_t51 : Fin (k0_t51_loop v1).trips) (v228 : BitVec 32) (v257 : BitVec 32) (k0_t56 : Fin (k0_t56_loop v228 v257).trips) : Fin 5 → Nat :=
  let c0_627 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v677 : Index := Scalar.indexCast v226
  let c58 : Index := 58#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v678 : Index := Scalar.indexCast v327
  let c0_628 : Index := 0#32
  ![0, v677.toNat, 58, v678.toNat, 0]
def k0_off2566 (v1 : BitVec 32) (k0_t51 : Fin (k0_t51_loop v1).trips) (v228 : BitVec 32) (v257 : BitVec 32) (k0_t56 : Fin (k0_t56_loop v228 v257).trips) : Fin 5 → Nat :=
  let c0_630 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v683 : Index := Scalar.indexCast v226
  let c59 : Index := 59#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v684 : Index := Scalar.indexCast v327
  let c0_631 : Index := 0#32
  ![0, v683.toNat, 59, v684.toNat, 0]
def k0_off2567 (v1 : BitVec 32) (k0_t51 : Fin (k0_t51_loop v1).trips) (v228 : BitVec 32) (v257 : BitVec 32) (k0_t56 : Fin (k0_t56_loop v228 v257).trips) : Fin 5 → Nat :=
  let c0_633 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v689 : Index := Scalar.indexCast v226
  let c60 : Index := 60#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v690 : Index := Scalar.indexCast v327
  let c0_634 : Index := 0#32
  ![0, v689.toNat, 60, v690.toNat, 0]
def k0_off2568 (v1 : BitVec 32) (k0_t51 : Fin (k0_t51_loop v1).trips) (v228 : BitVec 32) (v257 : BitVec 32) (k0_t56 : Fin (k0_t56_loop v228 v257).trips) : Fin 5 → Nat :=
  let c0_636 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v695 : Index := Scalar.indexCast v226
  let c61 : Index := 61#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v696 : Index := Scalar.indexCast v327
  let c0_637 : Index := 0#32
  ![0, v695.toNat, 61, v696.toNat, 0]
def k0_off2569 (v1 : BitVec 32) (k0_t51 : Fin (k0_t51_loop v1).trips) (v228 : BitVec 32) (v257 : BitVec 32) (k0_t56 : Fin (k0_t56_loop v228 v257).trips) : Fin 5 → Nat :=
  let c0_639 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v701 : Index := Scalar.indexCast v226
  let c62 : Index := 62#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v702 : Index := Scalar.indexCast v327
  let c0_640 : Index := 0#32
  ![0, v701.toNat, 62, v702.toNat, 0]
def k0_off2570 (v1 : BitVec 32) (k0_t51 : Fin (k0_t51_loop v1).trips) (v228 : BitVec 32) (v257 : BitVec 32) (k0_t56 : Fin (k0_t56_loop v228 v257).trips) : Fin 5 → Nat :=
  let c0_642 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v707 : Index := Scalar.indexCast v226
  let c63 : Index := 63#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v708 : Index := Scalar.indexCast v327
  let c0_643 : Index := 0#32
  ![0, v707.toNat, 63, v708.toNat, 0]
def k0_off2571 (v1 : BitVec 32) (k0_t51 : Fin (k0_t51_loop v1).trips) (v228 : BitVec 32) (v257 : BitVec 32) (k0_t56 : Fin (k0_t56_loop v228 v257).trips) : Fin 5 → Nat :=
  let c0_645 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v713 : Index := Scalar.indexCast v226
  let c64 : Index := 64#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v714 : Index := Scalar.indexCast v327
  let c0_646 : Index := 0#32
  ![0, v713.toNat, 64, v714.toNat, 0]
def k0_off2572 (v1 : BitVec 32) (k0_t51 : Fin (k0_t51_loop v1).trips) (v228 : BitVec 32) (v257 : BitVec 32) (k0_t56 : Fin (k0_t56_loop v228 v257).trips) : Fin 5 → Nat :=
  let c0_648 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v719 : Index := Scalar.indexCast v226
  let c65 : Index := 65#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v720 : Index := Scalar.indexCast v327
  let c0_649 : Index := 0#32
  ![0, v719.toNat, 65, v720.toNat, 0]
def k0_off2573 (v1 : BitVec 32) (k0_t51 : Fin (k0_t51_loop v1).trips) (v228 : BitVec 32) (v257 : BitVec 32) (k0_t56 : Fin (k0_t56_loop v228 v257).trips) : Fin 5 → Nat :=
  let c0_651 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v725 : Index := Scalar.indexCast v226
  let c66 : Index := 66#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v726 : Index := Scalar.indexCast v327
  let c0_652 : Index := 0#32
  ![0, v725.toNat, 66, v726.toNat, 0]
def k0_off2574 (v1 : BitVec 32) (k0_t51 : Fin (k0_t51_loop v1).trips) (v228 : BitVec 32) (v257 : BitVec 32) (k0_t56 : Fin (k0_t56_loop v228 v257).trips) : Fin 5 → Nat :=
  let c0_654 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v731 : Index := Scalar.indexCast v226
  let c67 : Index := 67#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v732 : Index := Scalar.indexCast v327
  let c0_655 : Index := 0#32
  ![0, v731.toNat, 67, v732.toNat, 0]
def k0_off2575 (v1 : BitVec 32) (k0_t51 : Fin (k0_t51_loop v1).trips) (v228 : BitVec 32) (v257 : BitVec 32) (k0_t56 : Fin (k0_t56_loop v228 v257).trips) : Fin 5 → Nat :=
  let c0_657 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v737 : Index := Scalar.indexCast v226
  let c68 : Index := 68#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v738 : Index := Scalar.indexCast v327
  let c0_658 : Index := 0#32
  ![0, v737.toNat, 68, v738.toNat, 0]
def k0_off2576 (v1 : BitVec 32) (k0_t51 : Fin (k0_t51_loop v1).trips) (v228 : BitVec 32) (v257 : BitVec 32) (k0_t56 : Fin (k0_t56_loop v228 v257).trips) : Fin 5 → Nat :=
  let c0_660 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v743 : Index := Scalar.indexCast v226
  let c69 : Index := 69#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v744 : Index := Scalar.indexCast v327
  let c0_661 : Index := 0#32
  ![0, v743.toNat, 69, v744.toNat, 0]
def k0_off2577 (v1 : BitVec 32) (k0_t51 : Fin (k0_t51_loop v1).trips) (v228 : BitVec 32) (v257 : BitVec 32) (k0_t56 : Fin (k0_t56_loop v228 v257).trips) : Fin 5 → Nat :=
  let c0_663 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v749 : Index := Scalar.indexCast v226
  let c70 : Index := 70#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v750 : Index := Scalar.indexCast v327
  let c0_664 : Index := 0#32
  ![0, v749.toNat, 70, v750.toNat, 0]
def k0_off2578 (v1 : BitVec 32) (k0_t51 : Fin (k0_t51_loop v1).trips) (v228 : BitVec 32) (v257 : BitVec 32) (k0_t56 : Fin (k0_t56_loop v228 v257).trips) : Fin 5 → Nat :=
  let c0_666 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v755 : Index := Scalar.indexCast v226
  let c71 : Index := 71#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v756 : Index := Scalar.indexCast v327
  let c0_667 : Index := 0#32
  ![0, v755.toNat, 71, v756.toNat, 0]
def k0_off2579 (v1 : BitVec 32) (k0_t51 : Fin (k0_t51_loop v1).trips) (v228 : BitVec 32) (v257 : BitVec 32) (k0_t56 : Fin (k0_t56_loop v228 v257).trips) : Fin 5 → Nat :=
  let c0_669 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v761 : Index := Scalar.indexCast v226
  let c72 : Index := 72#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v762 : Index := Scalar.indexCast v327
  let c0_670 : Index := 0#32
  ![0, v761.toNat, 72, v762.toNat, 0]
def k0_off2580 (v1 : BitVec 32) (k0_t51 : Fin (k0_t51_loop v1).trips) (v228 : BitVec 32) (v257 : BitVec 32) (k0_t56 : Fin (k0_t56_loop v228 v257).trips) : Fin 5 → Nat :=
  let c0_672 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v767 : Index := Scalar.indexCast v226
  let c73 : Index := 73#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v768 : Index := Scalar.indexCast v327
  let c0_673 : Index := 0#32
  ![0, v767.toNat, 73, v768.toNat, 0]
def k0_off2581 (v1 : BitVec 32) (k0_t51 : Fin (k0_t51_loop v1).trips) (v228 : BitVec 32) (v257 : BitVec 32) (k0_t56 : Fin (k0_t56_loop v228 v257).trips) : Fin 5 → Nat :=
  let c0_675 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v773 : Index := Scalar.indexCast v226
  let c74 : Index := 74#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v774 : Index := Scalar.indexCast v327
  let c0_676 : Index := 0#32
  ![0, v773.toNat, 74, v774.toNat, 0]
def k0_off2582 (v1 : BitVec 32) (k0_t51 : Fin (k0_t51_loop v1).trips) (v228 : BitVec 32) (v257 : BitVec 32) (k0_t56 : Fin (k0_t56_loop v228 v257).trips) : Fin 5 → Nat :=
  let c0_678 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v779 : Index := Scalar.indexCast v226
  let c75 : Index := 75#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v780 : Index := Scalar.indexCast v327
  let c0_679 : Index := 0#32
  ![0, v779.toNat, 75, v780.toNat, 0]
def k0_off2583 (v1 : BitVec 32) (k0_t51 : Fin (k0_t51_loop v1).trips) (v228 : BitVec 32) (v257 : BitVec 32) (k0_t56 : Fin (k0_t56_loop v228 v257).trips) : Fin 5 → Nat :=
  let c0_681 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v785 : Index := Scalar.indexCast v226
  let c76 : Index := 76#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v786 : Index := Scalar.indexCast v327
  let c0_682 : Index := 0#32
  ![0, v785.toNat, 76, v786.toNat, 0]
def k0_off2584 (v1 : BitVec 32) (k0_t51 : Fin (k0_t51_loop v1).trips) (v228 : BitVec 32) (v257 : BitVec 32) (k0_t56 : Fin (k0_t56_loop v228 v257).trips) : Fin 5 → Nat :=
  let c0_684 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v791 : Index := Scalar.indexCast v226
  let c77 : Index := 77#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v792 : Index := Scalar.indexCast v327
  let c0_685 : Index := 0#32
  ![0, v791.toNat, 77, v792.toNat, 0]
def k0_off2585 (v1 : BitVec 32) (k0_t51 : Fin (k0_t51_loop v1).trips) (v228 : BitVec 32) (v257 : BitVec 32) (k0_t56 : Fin (k0_t56_loop v228 v257).trips) : Fin 5 → Nat :=
  let c0_687 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v797 : Index := Scalar.indexCast v226
  let c78 : Index := 78#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v798 : Index := Scalar.indexCast v327
  let c0_688 : Index := 0#32
  ![0, v797.toNat, 78, v798.toNat, 0]
def k0_off2586 (v1 : BitVec 32) (k0_t51 : Fin (k0_t51_loop v1).trips) (v228 : BitVec 32) (v257 : BitVec 32) (k0_t56 : Fin (k0_t56_loop v228 v257).trips) : Fin 5 → Nat :=
  let c0_690 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v803 : Index := Scalar.indexCast v226
  let c79 : Index := 79#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v804 : Index := Scalar.indexCast v327
  let c0_691 : Index := 0#32
  ![0, v803.toNat, 79, v804.toNat, 0]
def k0_off2587 (v1 : BitVec 32) (k0_t51 : Fin (k0_t51_loop v1).trips) (v228 : BitVec 32) (v257 : BitVec 32) (k0_t56 : Fin (k0_t56_loop v228 v257).trips) : Fin 5 → Nat :=
  let c0_693 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v809 : Index := Scalar.indexCast v226
  let c80 : Index := 80#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v810 : Index := Scalar.indexCast v327
  let c0_694 : Index := 0#32
  ![0, v809.toNat, 80, v810.toNat, 0]
def k0_off2588 (v1 : BitVec 32) (k0_t51 : Fin (k0_t51_loop v1).trips) (v228 : BitVec 32) (v257 : BitVec 32) (k0_t56 : Fin (k0_t56_loop v228 v257).trips) : Fin 5 → Nat :=
  let c0_696 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v815 : Index := Scalar.indexCast v226
  let c81 : Index := 81#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v816 : Index := Scalar.indexCast v327
  let c0_697 : Index := 0#32
  ![0, v815.toNat, 81, v816.toNat, 0]
def k0_off2589 (v1 : BitVec 32) (k0_t51 : Fin (k0_t51_loop v1).trips) (v228 : BitVec 32) (v257 : BitVec 32) (k0_t56 : Fin (k0_t56_loop v228 v257).trips) : Fin 5 → Nat :=
  let c0_699 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v821 : Index := Scalar.indexCast v226
  let c82 : Index := 82#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v822 : Index := Scalar.indexCast v327
  let c0_700 : Index := 0#32
  ![0, v821.toNat, 82, v822.toNat, 0]
def k0_off2590 (v1 : BitVec 32) (k0_t51 : Fin (k0_t51_loop v1).trips) (v228 : BitVec 32) (v257 : BitVec 32) (k0_t56 : Fin (k0_t56_loop v228 v257).trips) : Fin 5 → Nat :=
  let c0_702 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v827 : Index := Scalar.indexCast v226
  let c83 : Index := 83#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v828 : Index := Scalar.indexCast v327
  let c0_703 : Index := 0#32
  ![0, v827.toNat, 83, v828.toNat, 0]
def k0_off2591 (v1 : BitVec 32) (k0_t51 : Fin (k0_t51_loop v1).trips) (v228 : BitVec 32) (v257 : BitVec 32) (k0_t56 : Fin (k0_t56_loop v228 v257).trips) : Fin 5 → Nat :=
  let c0_705 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v833 : Index := Scalar.indexCast v226
  let c84 : Index := 84#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v834 : Index := Scalar.indexCast v327
  let c0_706 : Index := 0#32
  ![0, v833.toNat, 84, v834.toNat, 0]
def k0_off2592 (v1 : BitVec 32) (k0_t51 : Fin (k0_t51_loop v1).trips) (v228 : BitVec 32) (v257 : BitVec 32) (k0_t56 : Fin (k0_t56_loop v228 v257).trips) : Fin 5 → Nat :=
  let c0_708 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v839 : Index := Scalar.indexCast v226
  let c85 : Index := 85#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v840 : Index := Scalar.indexCast v327
  let c0_709 : Index := 0#32
  ![0, v839.toNat, 85, v840.toNat, 0]
def k0_off2593 (v1 : BitVec 32) (k0_t51 : Fin (k0_t51_loop v1).trips) (v228 : BitVec 32) (v257 : BitVec 32) (k0_t56 : Fin (k0_t56_loop v228 v257).trips) : Fin 5 → Nat :=
  let c0_711 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v845 : Index := Scalar.indexCast v226
  let c86 : Index := 86#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v846 : Index := Scalar.indexCast v327
  let c0_712 : Index := 0#32
  ![0, v845.toNat, 86, v846.toNat, 0]
def k0_off2594 (v1 : BitVec 32) (k0_t51 : Fin (k0_t51_loop v1).trips) (v228 : BitVec 32) (v257 : BitVec 32) (k0_t56 : Fin (k0_t56_loop v228 v257).trips) : Fin 5 → Nat :=
  let c0_714 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v851 : Index := Scalar.indexCast v226
  let c87 : Index := 87#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v852 : Index := Scalar.indexCast v327
  let c0_715 : Index := 0#32
  ![0, v851.toNat, 87, v852.toNat, 0]
def k0_off2595 (v1 : BitVec 32) (k0_t51 : Fin (k0_t51_loop v1).trips) (v228 : BitVec 32) (v257 : BitVec 32) (k0_t56 : Fin (k0_t56_loop v228 v257).trips) : Fin 5 → Nat :=
  let c0_717 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v857 : Index := Scalar.indexCast v226
  let c88 : Index := 88#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v858 : Index := Scalar.indexCast v327
  let c0_718 : Index := 0#32
  ![0, v857.toNat, 88, v858.toNat, 0]
def k0_off2596 (v1 : BitVec 32) (k0_t51 : Fin (k0_t51_loop v1).trips) (v228 : BitVec 32) (v257 : BitVec 32) (k0_t56 : Fin (k0_t56_loop v228 v257).trips) : Fin 5 → Nat :=
  let c0_720 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v863 : Index := Scalar.indexCast v226
  let c89 : Index := 89#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v864 : Index := Scalar.indexCast v327
  let c0_721 : Index := 0#32
  ![0, v863.toNat, 89, v864.toNat, 0]
def k0_off2597 (v1 : BitVec 32) (k0_t51 : Fin (k0_t51_loop v1).trips) (v228 : BitVec 32) (v257 : BitVec 32) (k0_t56 : Fin (k0_t56_loop v228 v257).trips) : Fin 5 → Nat :=
  let c0_723 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v869 : Index := Scalar.indexCast v226
  let c90 : Index := 90#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v870 : Index := Scalar.indexCast v327
  let c0_724 : Index := 0#32
  ![0, v869.toNat, 90, v870.toNat, 0]
def k0_off2598 (v1 : BitVec 32) (k0_t51 : Fin (k0_t51_loop v1).trips) (v228 : BitVec 32) (v257 : BitVec 32) (k0_t56 : Fin (k0_t56_loop v228 v257).trips) : Fin 5 → Nat :=
  let c0_726 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v875 : Index := Scalar.indexCast v226
  let c91 : Index := 91#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v876 : Index := Scalar.indexCast v327
  let c0_727 : Index := 0#32
  ![0, v875.toNat, 91, v876.toNat, 0]
def k0_off2599 (v1 : BitVec 32) (k0_t51 : Fin (k0_t51_loop v1).trips) (v228 : BitVec 32) (v257 : BitVec 32) (k0_t56 : Fin (k0_t56_loop v228 v257).trips) : Fin 5 → Nat :=
  let c0_729 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v881 : Index := Scalar.indexCast v226
  let c92 : Index := 92#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v882 : Index := Scalar.indexCast v327
  let c0_730 : Index := 0#32
  ![0, v881.toNat, 92, v882.toNat, 0]
def k0_off2600 (v1 : BitVec 32) (k0_t51 : Fin (k0_t51_loop v1).trips) (v228 : BitVec 32) (v257 : BitVec 32) (k0_t56 : Fin (k0_t56_loop v228 v257).trips) : Fin 5 → Nat :=
  let c0_732 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v887 : Index := Scalar.indexCast v226
  let c93 : Index := 93#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v888 : Index := Scalar.indexCast v327
  let c0_733 : Index := 0#32
  ![0, v887.toNat, 93, v888.toNat, 0]
def k0_off2601 (v1 : BitVec 32) (k0_t51 : Fin (k0_t51_loop v1).trips) (v228 : BitVec 32) (v257 : BitVec 32) (k0_t56 : Fin (k0_t56_loop v228 v257).trips) : Fin 5 → Nat :=
  let c0_735 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v893 : Index := Scalar.indexCast v226
  let c94 : Index := 94#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v894 : Index := Scalar.indexCast v327
  let c0_736 : Index := 0#32
  ![0, v893.toNat, 94, v894.toNat, 0]
def k0_off2602 (v1 : BitVec 32) (k0_t51 : Fin (k0_t51_loop v1).trips) (v228 : BitVec 32) (v257 : BitVec 32) (k0_t56 : Fin (k0_t56_loop v228 v257).trips) : Fin 5 → Nat :=
  let c0_738 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v899 : Index := Scalar.indexCast v226
  let c95 : Index := 95#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v900 : Index := Scalar.indexCast v327
  let c0_739 : Index := 0#32
  ![0, v899.toNat, 95, v900.toNat, 0]
def k0_off2603 (v1 : BitVec 32) (k0_t51 : Fin (k0_t51_loop v1).trips) (v228 : BitVec 32) (v257 : BitVec 32) (k0_t56 : Fin (k0_t56_loop v228 v257).trips) : Fin 5 → Nat :=
  let c0_741 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v905 : Index := Scalar.indexCast v226
  let c96 : Index := 96#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v906 : Index := Scalar.indexCast v327
  let c0_742 : Index := 0#32
  ![0, v905.toNat, 96, v906.toNat, 0]
def k0_off2604 (v1 : BitVec 32) (k0_t51 : Fin (k0_t51_loop v1).trips) (v228 : BitVec 32) (v257 : BitVec 32) (k0_t56 : Fin (k0_t56_loop v228 v257).trips) : Fin 5 → Nat :=
  let c0_744 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v911 : Index := Scalar.indexCast v226
  let c97 : Index := 97#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v912 : Index := Scalar.indexCast v327
  let c0_745 : Index := 0#32
  ![0, v911.toNat, 97, v912.toNat, 0]
def k0_off2605 (v1 : BitVec 32) (k0_t51 : Fin (k0_t51_loop v1).trips) (v228 : BitVec 32) (v257 : BitVec 32) (k0_t56 : Fin (k0_t56_loop v228 v257).trips) : Fin 5 → Nat :=
  let c0_747 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v917 : Index := Scalar.indexCast v226
  let c98 : Index := 98#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v918 : Index := Scalar.indexCast v327
  let c0_748 : Index := 0#32
  ![0, v917.toNat, 98, v918.toNat, 0]
def k0_off2606 (v1 : BitVec 32) (k0_t51 : Fin (k0_t51_loop v1).trips) (v228 : BitVec 32) (v257 : BitVec 32) (k0_t56 : Fin (k0_t56_loop v228 v257).trips) : Fin 5 → Nat :=
  let c0_750 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v923 : Index := Scalar.indexCast v226
  let c99 : Index := 99#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v924 : Index := Scalar.indexCast v327
  let c0_751 : Index := 0#32
  ![0, v923.toNat, 99, v924.toNat, 0]
def k0_off2607 (v1 : BitVec 32) (k0_t51 : Fin (k0_t51_loop v1).trips) (v228 : BitVec 32) (v257 : BitVec 32) (k0_t56 : Fin (k0_t56_loop v228 v257).trips) : Fin 5 → Nat :=
  let c0_753 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v929 : Index := Scalar.indexCast v226
  let c100 : Index := 100#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v930 : Index := Scalar.indexCast v327
  let c0_754 : Index := 0#32
  ![0, v929.toNat, 100, v930.toNat, 0]
def k0_off2608 (v1 : BitVec 32) (k0_t51 : Fin (k0_t51_loop v1).trips) (v228 : BitVec 32) (v257 : BitVec 32) (k0_t56 : Fin (k0_t56_loop v228 v257).trips) : Fin 5 → Nat :=
  let c0_756 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v935 : Index := Scalar.indexCast v226
  let c101 : Index := 101#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v936 : Index := Scalar.indexCast v327
  let c0_757 : Index := 0#32
  ![0, v935.toNat, 101, v936.toNat, 0]
def k0_off2609 (v1 : BitVec 32) (k0_t51 : Fin (k0_t51_loop v1).trips) (v228 : BitVec 32) (v257 : BitVec 32) (k0_t56 : Fin (k0_t56_loop v228 v257).trips) : Fin 5 → Nat :=
  let c0_759 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v941 : Index := Scalar.indexCast v226
  let c102 : Index := 102#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v942 : Index := Scalar.indexCast v327
  let c0_760 : Index := 0#32
  ![0, v941.toNat, 102, v942.toNat, 0]
def k0_off2610 (v1 : BitVec 32) (k0_t51 : Fin (k0_t51_loop v1).trips) (v228 : BitVec 32) (v257 : BitVec 32) (k0_t56 : Fin (k0_t56_loop v228 v257).trips) : Fin 5 → Nat :=
  let c0_762 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v947 : Index := Scalar.indexCast v226
  let c103 : Index := 103#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v948 : Index := Scalar.indexCast v327
  let c0_763 : Index := 0#32
  ![0, v947.toNat, 103, v948.toNat, 0]
def k0_off2611 (v1 : BitVec 32) (k0_t51 : Fin (k0_t51_loop v1).trips) (v228 : BitVec 32) (v257 : BitVec 32) (k0_t56 : Fin (k0_t56_loop v228 v257).trips) : Fin 5 → Nat :=
  let c0_765 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v953 : Index := Scalar.indexCast v226
  let c104 : Index := 104#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v954 : Index := Scalar.indexCast v327
  let c0_766 : Index := 0#32
  ![0, v953.toNat, 104, v954.toNat, 0]
def k0_off2612 (v1 : BitVec 32) (k0_t51 : Fin (k0_t51_loop v1).trips) (v228 : BitVec 32) (v257 : BitVec 32) (k0_t56 : Fin (k0_t56_loop v228 v257).trips) : Fin 5 → Nat :=
  let c0_768 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v959 : Index := Scalar.indexCast v226
  let c105 : Index := 105#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v960 : Index := Scalar.indexCast v327
  let c0_769 : Index := 0#32
  ![0, v959.toNat, 105, v960.toNat, 0]
def k0_off2613 (v1 : BitVec 32) (k0_t51 : Fin (k0_t51_loop v1).trips) (v228 : BitVec 32) (v257 : BitVec 32) (k0_t56 : Fin (k0_t56_loop v228 v257).trips) : Fin 5 → Nat :=
  let c0_771 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v965 : Index := Scalar.indexCast v226
  let c106 : Index := 106#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v966 : Index := Scalar.indexCast v327
  let c0_772 : Index := 0#32
  ![0, v965.toNat, 106, v966.toNat, 0]
def k0_off2614 (v1 : BitVec 32) (k0_t51 : Fin (k0_t51_loop v1).trips) (v228 : BitVec 32) (v257 : BitVec 32) (k0_t56 : Fin (k0_t56_loop v228 v257).trips) : Fin 5 → Nat :=
  let c0_774 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v971 : Index := Scalar.indexCast v226
  let c107 : Index := 107#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_413 : BitVec 32 := 1#32
  let arg19 : BitVec 32 := Scf.iv v265 c1_i32_413 k0_t56
  let c16_i32_452 : BitVec 32 := 16#32
  let v326 : BitVec 32 := Scalar.muli arg19 c16_i32_452
  let v327 : BitVec 32 := v326
  let v972 : Index := Scalar.indexCast v327
  let c0_775 : Index := 0#32
  ![0, v971.toNat, 107, v972.toNat, 0]
@[reducible] def k0_t57_loop (v228 : BitVec 32) (v257 : BitVec 32) : Scf.Loop 32 :=
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let v280 : BitVec 32 := Scalar.addi v265 v279
  let c1_i32_414 : BitVec 32 := 1#32
  ⟨v283, v280, c1_i32_414⟩
def k0_mult21 (v228 : BitVec 32) (v257 : BitVec 32) (k0_t57 : Fin (k0_t57_loop v228 v257).trips) : BitVec 32 :=
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  v326
def k0_off2615 (v1 : BitVec 32) (k0_t51 : Fin (k0_t51_loop v1).trips) (v228 : BitVec 32) (v257 : BitVec 32) (k0_t57 : Fin (k0_t57_loop v228 v257).trips) : Fin 5 → Nat :=
  let c0 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v329 : Index := Scalar.indexCast v226
  let c0_453 : Index := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v330 : Index := Scalar.indexCast v327
  let c0_454 : Index := 0#32
  ![0, v329.toNat, 0, v330.toNat, 0]
def k0_off2616 (v1 : BitVec 32) (k0_t51 : Fin (k0_t51_loop v1).trips) (v228 : BitVec 32) (v257 : BitVec 32) (k0_t57 : Fin (k0_t57_loop v228 v257).trips) : Fin 5 → Nat :=
  let c0_456 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v335 : Index := Scalar.indexCast v226
  let c1 : Index := 1#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v336 : Index := Scalar.indexCast v327
  let c0_457 : Index := 0#32
  ![0, v335.toNat, 1, v336.toNat, 0]
def k0_off2617 (v1 : BitVec 32) (k0_t51 : Fin (k0_t51_loop v1).trips) (v228 : BitVec 32) (v257 : BitVec 32) (k0_t57 : Fin (k0_t57_loop v228 v257).trips) : Fin 5 → Nat :=
  let c0_459 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v341 : Index := Scalar.indexCast v226
  let c2 : Index := 2#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v342 : Index := Scalar.indexCast v327
  let c0_460 : Index := 0#32
  ![0, v341.toNat, 2, v342.toNat, 0]
def k0_off2618 (v1 : BitVec 32) (k0_t51 : Fin (k0_t51_loop v1).trips) (v228 : BitVec 32) (v257 : BitVec 32) (k0_t57 : Fin (k0_t57_loop v228 v257).trips) : Fin 5 → Nat :=
  let c0_462 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v347 : Index := Scalar.indexCast v226
  let c3 : Index := 3#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v348 : Index := Scalar.indexCast v327
  let c0_463 : Index := 0#32
  ![0, v347.toNat, 3, v348.toNat, 0]
def k0_off2619 (v1 : BitVec 32) (k0_t51 : Fin (k0_t51_loop v1).trips) (v228 : BitVec 32) (v257 : BitVec 32) (k0_t57 : Fin (k0_t57_loop v228 v257).trips) : Fin 5 → Nat :=
  let c0_465 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v353 : Index := Scalar.indexCast v226
  let c4 : Index := 4#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v354 : Index := Scalar.indexCast v327
  let c0_466 : Index := 0#32
  ![0, v353.toNat, 4, v354.toNat, 0]
def k0_off2620 (v1 : BitVec 32) (k0_t51 : Fin (k0_t51_loop v1).trips) (v228 : BitVec 32) (v257 : BitVec 32) (k0_t57 : Fin (k0_t57_loop v228 v257).trips) : Fin 5 → Nat :=
  let c0_468 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v359 : Index := Scalar.indexCast v226
  let c5 : Index := 5#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v360 : Index := Scalar.indexCast v327
  let c0_469 : Index := 0#32
  ![0, v359.toNat, 5, v360.toNat, 0]
def k0_off2621 (v1 : BitVec 32) (k0_t51 : Fin (k0_t51_loop v1).trips) (v228 : BitVec 32) (v257 : BitVec 32) (k0_t57 : Fin (k0_t57_loop v228 v257).trips) : Fin 5 → Nat :=
  let c0_471 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v365 : Index := Scalar.indexCast v226
  let c6 : Index := 6#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v366 : Index := Scalar.indexCast v327
  let c0_472 : Index := 0#32
  ![0, v365.toNat, 6, v366.toNat, 0]
def k0_off2622 (v1 : BitVec 32) (k0_t51 : Fin (k0_t51_loop v1).trips) (v228 : BitVec 32) (v257 : BitVec 32) (k0_t57 : Fin (k0_t57_loop v228 v257).trips) : Fin 5 → Nat :=
  let c0_474 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v371 : Index := Scalar.indexCast v226
  let c7 : Index := 7#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v372 : Index := Scalar.indexCast v327
  let c0_475 : Index := 0#32
  ![0, v371.toNat, 7, v372.toNat, 0]
def k0_off2623 (v1 : BitVec 32) (k0_t51 : Fin (k0_t51_loop v1).trips) (v228 : BitVec 32) (v257 : BitVec 32) (k0_t57 : Fin (k0_t57_loop v228 v257).trips) : Fin 5 → Nat :=
  let c0_477 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v377 : Index := Scalar.indexCast v226
  let c8 : Index := 8#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v378 : Index := Scalar.indexCast v327
  let c0_478 : Index := 0#32
  ![0, v377.toNat, 8, v378.toNat, 0]
def k0_off2624 (v1 : BitVec 32) (k0_t51 : Fin (k0_t51_loop v1).trips) (v228 : BitVec 32) (v257 : BitVec 32) (k0_t57 : Fin (k0_t57_loop v228 v257).trips) : Fin 5 → Nat :=
  let c0_480 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v383 : Index := Scalar.indexCast v226
  let c9 : Index := 9#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v384 : Index := Scalar.indexCast v327
  let c0_481 : Index := 0#32
  ![0, v383.toNat, 9, v384.toNat, 0]
def k0_off2625 (v1 : BitVec 32) (k0_t51 : Fin (k0_t51_loop v1).trips) (v228 : BitVec 32) (v257 : BitVec 32) (k0_t57 : Fin (k0_t57_loop v228 v257).trips) : Fin 5 → Nat :=
  let c0_483 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v389 : Index := Scalar.indexCast v226
  let c10 : Index := 10#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v390 : Index := Scalar.indexCast v327
  let c0_484 : Index := 0#32
  ![0, v389.toNat, 10, v390.toNat, 0]
def k0_off2626 (v1 : BitVec 32) (k0_t51 : Fin (k0_t51_loop v1).trips) (v228 : BitVec 32) (v257 : BitVec 32) (k0_t57 : Fin (k0_t57_loop v228 v257).trips) : Fin 5 → Nat :=
  let c0_486 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v395 : Index := Scalar.indexCast v226
  let c11 : Index := 11#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v396 : Index := Scalar.indexCast v327
  let c0_487 : Index := 0#32
  ![0, v395.toNat, 11, v396.toNat, 0]
def k0_off2627 (v1 : BitVec 32) (k0_t51 : Fin (k0_t51_loop v1).trips) (v228 : BitVec 32) (v257 : BitVec 32) (k0_t57 : Fin (k0_t57_loop v228 v257).trips) : Fin 5 → Nat :=
  let c0_489 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v401 : Index := Scalar.indexCast v226
  let c12 : Index := 12#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v402 : Index := Scalar.indexCast v327
  let c0_490 : Index := 0#32
  ![0, v401.toNat, 12, v402.toNat, 0]
def k0_off2628 (v1 : BitVec 32) (k0_t51 : Fin (k0_t51_loop v1).trips) (v228 : BitVec 32) (v257 : BitVec 32) (k0_t57 : Fin (k0_t57_loop v228 v257).trips) : Fin 5 → Nat :=
  let c0_492 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v407 : Index := Scalar.indexCast v226
  let c13 : Index := 13#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v408 : Index := Scalar.indexCast v327
  let c0_493 : Index := 0#32
  ![0, v407.toNat, 13, v408.toNat, 0]
def k0_off2629 (v1 : BitVec 32) (k0_t51 : Fin (k0_t51_loop v1).trips) (v228 : BitVec 32) (v257 : BitVec 32) (k0_t57 : Fin (k0_t57_loop v228 v257).trips) : Fin 5 → Nat :=
  let c0_495 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v413 : Index := Scalar.indexCast v226
  let c14 : Index := 14#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v414 : Index := Scalar.indexCast v327
  let c0_496 : Index := 0#32
  ![0, v413.toNat, 14, v414.toNat, 0]
def k0_off2630 (v1 : BitVec 32) (k0_t51 : Fin (k0_t51_loop v1).trips) (v228 : BitVec 32) (v257 : BitVec 32) (k0_t57 : Fin (k0_t57_loop v228 v257).trips) : Fin 5 → Nat :=
  let c0_498 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v419 : Index := Scalar.indexCast v226
  let c15 : Index := 15#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v420 : Index := Scalar.indexCast v327
  let c0_499 : Index := 0#32
  ![0, v419.toNat, 15, v420.toNat, 0]
def k0_off2631 (v1 : BitVec 32) (k0_t51 : Fin (k0_t51_loop v1).trips) (v228 : BitVec 32) (v257 : BitVec 32) (k0_t57 : Fin (k0_t57_loop v228 v257).trips) : Fin 5 → Nat :=
  let c0_501 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v425 : Index := Scalar.indexCast v226
  let c16 : Index := 16#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v426 : Index := Scalar.indexCast v327
  let c0_502 : Index := 0#32
  ![0, v425.toNat, 16, v426.toNat, 0]
def k0_off2632 (v1 : BitVec 32) (k0_t51 : Fin (k0_t51_loop v1).trips) (v228 : BitVec 32) (v257 : BitVec 32) (k0_t57 : Fin (k0_t57_loop v228 v257).trips) : Fin 5 → Nat :=
  let c0_504 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v431 : Index := Scalar.indexCast v226
  let c17 : Index := 17#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v432 : Index := Scalar.indexCast v327
  let c0_505 : Index := 0#32
  ![0, v431.toNat, 17, v432.toNat, 0]
def k0_off2633 (v1 : BitVec 32) (k0_t51 : Fin (k0_t51_loop v1).trips) (v228 : BitVec 32) (v257 : BitVec 32) (k0_t57 : Fin (k0_t57_loop v228 v257).trips) : Fin 5 → Nat :=
  let c0_507 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v437 : Index := Scalar.indexCast v226
  let c18 : Index := 18#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v438 : Index := Scalar.indexCast v327
  let c0_508 : Index := 0#32
  ![0, v437.toNat, 18, v438.toNat, 0]
def k0_off2634 (v1 : BitVec 32) (k0_t51 : Fin (k0_t51_loop v1).trips) (v228 : BitVec 32) (v257 : BitVec 32) (k0_t57 : Fin (k0_t57_loop v228 v257).trips) : Fin 5 → Nat :=
  let c0_510 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v443 : Index := Scalar.indexCast v226
  let c19 : Index := 19#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v444 : Index := Scalar.indexCast v327
  let c0_511 : Index := 0#32
  ![0, v443.toNat, 19, v444.toNat, 0]
def k0_off2635 (v1 : BitVec 32) (k0_t51 : Fin (k0_t51_loop v1).trips) (v228 : BitVec 32) (v257 : BitVec 32) (k0_t57 : Fin (k0_t57_loop v228 v257).trips) : Fin 5 → Nat :=
  let c0_513 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v449 : Index := Scalar.indexCast v226
  let c20 : Index := 20#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v450 : Index := Scalar.indexCast v327
  let c0_514 : Index := 0#32
  ![0, v449.toNat, 20, v450.toNat, 0]
def k0_off2636 (v1 : BitVec 32) (k0_t51 : Fin (k0_t51_loop v1).trips) (v228 : BitVec 32) (v257 : BitVec 32) (k0_t57 : Fin (k0_t57_loop v228 v257).trips) : Fin 5 → Nat :=
  let c0_516 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v455 : Index := Scalar.indexCast v226
  let c21 : Index := 21#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v456 : Index := Scalar.indexCast v327
  let c0_517 : Index := 0#32
  ![0, v455.toNat, 21, v456.toNat, 0]
def k0_off2637 (v1 : BitVec 32) (k0_t51 : Fin (k0_t51_loop v1).trips) (v228 : BitVec 32) (v257 : BitVec 32) (k0_t57 : Fin (k0_t57_loop v228 v257).trips) : Fin 5 → Nat :=
  let c0_519 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v461 : Index := Scalar.indexCast v226
  let c22 : Index := 22#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v462 : Index := Scalar.indexCast v327
  let c0_520 : Index := 0#32
  ![0, v461.toNat, 22, v462.toNat, 0]
def k0_off2638 (v1 : BitVec 32) (k0_t51 : Fin (k0_t51_loop v1).trips) (v228 : BitVec 32) (v257 : BitVec 32) (k0_t57 : Fin (k0_t57_loop v228 v257).trips) : Fin 5 → Nat :=
  let c0_522 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v467 : Index := Scalar.indexCast v226
  let c23 : Index := 23#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v468 : Index := Scalar.indexCast v327
  let c0_523 : Index := 0#32
  ![0, v467.toNat, 23, v468.toNat, 0]
def k0_off2639 (v1 : BitVec 32) (k0_t51 : Fin (k0_t51_loop v1).trips) (v228 : BitVec 32) (v257 : BitVec 32) (k0_t57 : Fin (k0_t57_loop v228 v257).trips) : Fin 5 → Nat :=
  let c0_525 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v473 : Index := Scalar.indexCast v226
  let c24 : Index := 24#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v474 : Index := Scalar.indexCast v327
  let c0_526 : Index := 0#32
  ![0, v473.toNat, 24, v474.toNat, 0]
def k0_off2640 (v1 : BitVec 32) (k0_t51 : Fin (k0_t51_loop v1).trips) (v228 : BitVec 32) (v257 : BitVec 32) (k0_t57 : Fin (k0_t57_loop v228 v257).trips) : Fin 5 → Nat :=
  let c0_528 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v479 : Index := Scalar.indexCast v226
  let c25 : Index := 25#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v480 : Index := Scalar.indexCast v327
  let c0_529 : Index := 0#32
  ![0, v479.toNat, 25, v480.toNat, 0]
def k0_off2641 (v1 : BitVec 32) (k0_t51 : Fin (k0_t51_loop v1).trips) (v228 : BitVec 32) (v257 : BitVec 32) (k0_t57 : Fin (k0_t57_loop v228 v257).trips) : Fin 5 → Nat :=
  let c0_531 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v485 : Index := Scalar.indexCast v226
  let c26 : Index := 26#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v486 : Index := Scalar.indexCast v327
  let c0_532 : Index := 0#32
  ![0, v485.toNat, 26, v486.toNat, 0]
def k0_off2642 (v1 : BitVec 32) (k0_t51 : Fin (k0_t51_loop v1).trips) (v228 : BitVec 32) (v257 : BitVec 32) (k0_t57 : Fin (k0_t57_loop v228 v257).trips) : Fin 5 → Nat :=
  let c0_534 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v491 : Index := Scalar.indexCast v226
  let c27 : Index := 27#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v492 : Index := Scalar.indexCast v327
  let c0_535 : Index := 0#32
  ![0, v491.toNat, 27, v492.toNat, 0]
def k0_off2643 (v1 : BitVec 32) (k0_t51 : Fin (k0_t51_loop v1).trips) (v228 : BitVec 32) (v257 : BitVec 32) (k0_t57 : Fin (k0_t57_loop v228 v257).trips) : Fin 5 → Nat :=
  let c0_537 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v497 : Index := Scalar.indexCast v226
  let c28 : Index := 28#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v498 : Index := Scalar.indexCast v327
  let c0_538 : Index := 0#32
  ![0, v497.toNat, 28, v498.toNat, 0]
def k0_off2644 (v1 : BitVec 32) (k0_t51 : Fin (k0_t51_loop v1).trips) (v228 : BitVec 32) (v257 : BitVec 32) (k0_t57 : Fin (k0_t57_loop v228 v257).trips) : Fin 5 → Nat :=
  let c0_540 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v503 : Index := Scalar.indexCast v226
  let c29 : Index := 29#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v504 : Index := Scalar.indexCast v327
  let c0_541 : Index := 0#32
  ![0, v503.toNat, 29, v504.toNat, 0]
def k0_off2645 (v1 : BitVec 32) (k0_t51 : Fin (k0_t51_loop v1).trips) (v228 : BitVec 32) (v257 : BitVec 32) (k0_t57 : Fin (k0_t57_loop v228 v257).trips) : Fin 5 → Nat :=
  let c0_543 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v509 : Index := Scalar.indexCast v226
  let c30 : Index := 30#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v510 : Index := Scalar.indexCast v327
  let c0_544 : Index := 0#32
  ![0, v509.toNat, 30, v510.toNat, 0]
def k0_off2646 (v1 : BitVec 32) (k0_t51 : Fin (k0_t51_loop v1).trips) (v228 : BitVec 32) (v257 : BitVec 32) (k0_t57 : Fin (k0_t57_loop v228 v257).trips) : Fin 5 → Nat :=
  let c0_546 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v515 : Index := Scalar.indexCast v226
  let c31 : Index := 31#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v516 : Index := Scalar.indexCast v327
  let c0_547 : Index := 0#32
  ![0, v515.toNat, 31, v516.toNat, 0]
def k0_off2647 (v1 : BitVec 32) (k0_t51 : Fin (k0_t51_loop v1).trips) (v228 : BitVec 32) (v257 : BitVec 32) (k0_t57 : Fin (k0_t57_loop v228 v257).trips) : Fin 5 → Nat :=
  let c0_549 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v521 : Index := Scalar.indexCast v226
  let c32 : Index := 32#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v522 : Index := Scalar.indexCast v327
  let c0_550 : Index := 0#32
  ![0, v521.toNat, 32, v522.toNat, 0]
def k0_off2648 (v1 : BitVec 32) (k0_t51 : Fin (k0_t51_loop v1).trips) (v228 : BitVec 32) (v257 : BitVec 32) (k0_t57 : Fin (k0_t57_loop v228 v257).trips) : Fin 5 → Nat :=
  let c0_552 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v527 : Index := Scalar.indexCast v226
  let c33 : Index := 33#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v528 : Index := Scalar.indexCast v327
  let c0_553 : Index := 0#32
  ![0, v527.toNat, 33, v528.toNat, 0]
def k0_off2649 (v1 : BitVec 32) (k0_t51 : Fin (k0_t51_loop v1).trips) (v228 : BitVec 32) (v257 : BitVec 32) (k0_t57 : Fin (k0_t57_loop v228 v257).trips) : Fin 5 → Nat :=
  let c0_555 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v533 : Index := Scalar.indexCast v226
  let c34 : Index := 34#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v534 : Index := Scalar.indexCast v327
  let c0_556 : Index := 0#32
  ![0, v533.toNat, 34, v534.toNat, 0]
def k0_off2650 (v1 : BitVec 32) (k0_t51 : Fin (k0_t51_loop v1).trips) (v228 : BitVec 32) (v257 : BitVec 32) (k0_t57 : Fin (k0_t57_loop v228 v257).trips) : Fin 5 → Nat :=
  let c0_558 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v539 : Index := Scalar.indexCast v226
  let c35 : Index := 35#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v540 : Index := Scalar.indexCast v327
  let c0_559 : Index := 0#32
  ![0, v539.toNat, 35, v540.toNat, 0]
def k0_off2651 (v1 : BitVec 32) (k0_t51 : Fin (k0_t51_loop v1).trips) (v228 : BitVec 32) (v257 : BitVec 32) (k0_t57 : Fin (k0_t57_loop v228 v257).trips) : Fin 5 → Nat :=
  let c0_561 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v545 : Index := Scalar.indexCast v226
  let c36 : Index := 36#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v546 : Index := Scalar.indexCast v327
  let c0_562 : Index := 0#32
  ![0, v545.toNat, 36, v546.toNat, 0]
def k0_off2652 (v1 : BitVec 32) (k0_t51 : Fin (k0_t51_loop v1).trips) (v228 : BitVec 32) (v257 : BitVec 32) (k0_t57 : Fin (k0_t57_loop v228 v257).trips) : Fin 5 → Nat :=
  let c0_564 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v551 : Index := Scalar.indexCast v226
  let c37 : Index := 37#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v552 : Index := Scalar.indexCast v327
  let c0_565 : Index := 0#32
  ![0, v551.toNat, 37, v552.toNat, 0]
def k0_off2653 (v1 : BitVec 32) (k0_t51 : Fin (k0_t51_loop v1).trips) (v228 : BitVec 32) (v257 : BitVec 32) (k0_t57 : Fin (k0_t57_loop v228 v257).trips) : Fin 5 → Nat :=
  let c0_567 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v557 : Index := Scalar.indexCast v226
  let c38 : Index := 38#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v558 : Index := Scalar.indexCast v327
  let c0_568 : Index := 0#32
  ![0, v557.toNat, 38, v558.toNat, 0]
def k0_off2654 (v1 : BitVec 32) (k0_t51 : Fin (k0_t51_loop v1).trips) (v228 : BitVec 32) (v257 : BitVec 32) (k0_t57 : Fin (k0_t57_loop v228 v257).trips) : Fin 5 → Nat :=
  let c0_570 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v563 : Index := Scalar.indexCast v226
  let c39 : Index := 39#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v564 : Index := Scalar.indexCast v327
  let c0_571 : Index := 0#32
  ![0, v563.toNat, 39, v564.toNat, 0]
def k0_off2655 (v1 : BitVec 32) (k0_t51 : Fin (k0_t51_loop v1).trips) (v228 : BitVec 32) (v257 : BitVec 32) (k0_t57 : Fin (k0_t57_loop v228 v257).trips) : Fin 5 → Nat :=
  let c0_573 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v569 : Index := Scalar.indexCast v226
  let c40 : Index := 40#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v570 : Index := Scalar.indexCast v327
  let c0_574 : Index := 0#32
  ![0, v569.toNat, 40, v570.toNat, 0]
def k0_off2656 (v1 : BitVec 32) (k0_t51 : Fin (k0_t51_loop v1).trips) (v228 : BitVec 32) (v257 : BitVec 32) (k0_t57 : Fin (k0_t57_loop v228 v257).trips) : Fin 5 → Nat :=
  let c0_576 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v575 : Index := Scalar.indexCast v226
  let c41 : Index := 41#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v576 : Index := Scalar.indexCast v327
  let c0_577 : Index := 0#32
  ![0, v575.toNat, 41, v576.toNat, 0]
def k0_off2657 (v1 : BitVec 32) (k0_t51 : Fin (k0_t51_loop v1).trips) (v228 : BitVec 32) (v257 : BitVec 32) (k0_t57 : Fin (k0_t57_loop v228 v257).trips) : Fin 5 → Nat :=
  let c0_579 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v581 : Index := Scalar.indexCast v226
  let c42 : Index := 42#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v582 : Index := Scalar.indexCast v327
  let c0_580 : Index := 0#32
  ![0, v581.toNat, 42, v582.toNat, 0]
def k0_off2658 (v1 : BitVec 32) (k0_t51 : Fin (k0_t51_loop v1).trips) (v228 : BitVec 32) (v257 : BitVec 32) (k0_t57 : Fin (k0_t57_loop v228 v257).trips) : Fin 5 → Nat :=
  let c0_582 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v587 : Index := Scalar.indexCast v226
  let c43 : Index := 43#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v588 : Index := Scalar.indexCast v327
  let c0_583 : Index := 0#32
  ![0, v587.toNat, 43, v588.toNat, 0]
def k0_off2659 (v1 : BitVec 32) (k0_t51 : Fin (k0_t51_loop v1).trips) (v228 : BitVec 32) (v257 : BitVec 32) (k0_t57 : Fin (k0_t57_loop v228 v257).trips) : Fin 5 → Nat :=
  let c0_585 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v593 : Index := Scalar.indexCast v226
  let c44 : Index := 44#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v594 : Index := Scalar.indexCast v327
  let c0_586 : Index := 0#32
  ![0, v593.toNat, 44, v594.toNat, 0]
def k0_off2660 (v1 : BitVec 32) (k0_t51 : Fin (k0_t51_loop v1).trips) (v228 : BitVec 32) (v257 : BitVec 32) (k0_t57 : Fin (k0_t57_loop v228 v257).trips) : Fin 5 → Nat :=
  let c0_588 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v599 : Index := Scalar.indexCast v226
  let c45 : Index := 45#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v600 : Index := Scalar.indexCast v327
  let c0_589 : Index := 0#32
  ![0, v599.toNat, 45, v600.toNat, 0]
def k0_off2661 (v1 : BitVec 32) (k0_t51 : Fin (k0_t51_loop v1).trips) (v228 : BitVec 32) (v257 : BitVec 32) (k0_t57 : Fin (k0_t57_loop v228 v257).trips) : Fin 5 → Nat :=
  let c0_591 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v605 : Index := Scalar.indexCast v226
  let c46 : Index := 46#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v606 : Index := Scalar.indexCast v327
  let c0_592 : Index := 0#32
  ![0, v605.toNat, 46, v606.toNat, 0]
def k0_off2662 (v1 : BitVec 32) (k0_t51 : Fin (k0_t51_loop v1).trips) (v228 : BitVec 32) (v257 : BitVec 32) (k0_t57 : Fin (k0_t57_loop v228 v257).trips) : Fin 5 → Nat :=
  let c0_594 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v611 : Index := Scalar.indexCast v226
  let c47 : Index := 47#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v612 : Index := Scalar.indexCast v327
  let c0_595 : Index := 0#32
  ![0, v611.toNat, 47, v612.toNat, 0]
def k0_off2663 (v1 : BitVec 32) (k0_t51 : Fin (k0_t51_loop v1).trips) (v228 : BitVec 32) (v257 : BitVec 32) (k0_t57 : Fin (k0_t57_loop v228 v257).trips) : Fin 5 → Nat :=
  let c0_597 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v617 : Index := Scalar.indexCast v226
  let c48 : Index := 48#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v618 : Index := Scalar.indexCast v327
  let c0_598 : Index := 0#32
  ![0, v617.toNat, 48, v618.toNat, 0]
def k0_off2664 (v1 : BitVec 32) (k0_t51 : Fin (k0_t51_loop v1).trips) (v228 : BitVec 32) (v257 : BitVec 32) (k0_t57 : Fin (k0_t57_loop v228 v257).trips) : Fin 5 → Nat :=
  let c0_600 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v623 : Index := Scalar.indexCast v226
  let c49 : Index := 49#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v624 : Index := Scalar.indexCast v327
  let c0_601 : Index := 0#32
  ![0, v623.toNat, 49, v624.toNat, 0]
def k0_off2665 (v1 : BitVec 32) (k0_t51 : Fin (k0_t51_loop v1).trips) (v228 : BitVec 32) (v257 : BitVec 32) (k0_t57 : Fin (k0_t57_loop v228 v257).trips) : Fin 5 → Nat :=
  let c0_603 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v629 : Index := Scalar.indexCast v226
  let c50 : Index := 50#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v630 : Index := Scalar.indexCast v327
  let c0_604 : Index := 0#32
  ![0, v629.toNat, 50, v630.toNat, 0]
def k0_off2666 (v1 : BitVec 32) (k0_t51 : Fin (k0_t51_loop v1).trips) (v228 : BitVec 32) (v257 : BitVec 32) (k0_t57 : Fin (k0_t57_loop v228 v257).trips) : Fin 5 → Nat :=
  let c0_606 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v635 : Index := Scalar.indexCast v226
  let c51 : Index := 51#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v636 : Index := Scalar.indexCast v327
  let c0_607 : Index := 0#32
  ![0, v635.toNat, 51, v636.toNat, 0]
def k0_off2667 (v1 : BitVec 32) (k0_t51 : Fin (k0_t51_loop v1).trips) (v228 : BitVec 32) (v257 : BitVec 32) (k0_t57 : Fin (k0_t57_loop v228 v257).trips) : Fin 5 → Nat :=
  let c0_609 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v641 : Index := Scalar.indexCast v226
  let c52 : Index := 52#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v642 : Index := Scalar.indexCast v327
  let c0_610 : Index := 0#32
  ![0, v641.toNat, 52, v642.toNat, 0]
def k0_off2668 (v1 : BitVec 32) (k0_t51 : Fin (k0_t51_loop v1).trips) (v228 : BitVec 32) (v257 : BitVec 32) (k0_t57 : Fin (k0_t57_loop v228 v257).trips) : Fin 5 → Nat :=
  let c0_612 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v647 : Index := Scalar.indexCast v226
  let c53 : Index := 53#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v648 : Index := Scalar.indexCast v327
  let c0_613 : Index := 0#32
  ![0, v647.toNat, 53, v648.toNat, 0]
def k0_off2669 (v1 : BitVec 32) (k0_t51 : Fin (k0_t51_loop v1).trips) (v228 : BitVec 32) (v257 : BitVec 32) (k0_t57 : Fin (k0_t57_loop v228 v257).trips) : Fin 5 → Nat :=
  let c0_615 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v653 : Index := Scalar.indexCast v226
  let c54 : Index := 54#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v654 : Index := Scalar.indexCast v327
  let c0_616 : Index := 0#32
  ![0, v653.toNat, 54, v654.toNat, 0]
def k0_off2670 (v1 : BitVec 32) (k0_t51 : Fin (k0_t51_loop v1).trips) (v228 : BitVec 32) (v257 : BitVec 32) (k0_t57 : Fin (k0_t57_loop v228 v257).trips) : Fin 5 → Nat :=
  let c0_618 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v659 : Index := Scalar.indexCast v226
  let c55 : Index := 55#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v660 : Index := Scalar.indexCast v327
  let c0_619 : Index := 0#32
  ![0, v659.toNat, 55, v660.toNat, 0]
def k0_off2671 (v1 : BitVec 32) (k0_t51 : Fin (k0_t51_loop v1).trips) (v228 : BitVec 32) (v257 : BitVec 32) (k0_t57 : Fin (k0_t57_loop v228 v257).trips) : Fin 5 → Nat :=
  let c0_621 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v665 : Index := Scalar.indexCast v226
  let c56 : Index := 56#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v666 : Index := Scalar.indexCast v327
  let c0_622 : Index := 0#32
  ![0, v665.toNat, 56, v666.toNat, 0]
def k0_off2672 (v1 : BitVec 32) (k0_t51 : Fin (k0_t51_loop v1).trips) (v228 : BitVec 32) (v257 : BitVec 32) (k0_t57 : Fin (k0_t57_loop v228 v257).trips) : Fin 5 → Nat :=
  let c0_624 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v671 : Index := Scalar.indexCast v226
  let c57 : Index := 57#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v672 : Index := Scalar.indexCast v327
  let c0_625 : Index := 0#32
  ![0, v671.toNat, 57, v672.toNat, 0]
def k0_off2673 (v1 : BitVec 32) (k0_t51 : Fin (k0_t51_loop v1).trips) (v228 : BitVec 32) (v257 : BitVec 32) (k0_t57 : Fin (k0_t57_loop v228 v257).trips) : Fin 5 → Nat :=
  let c0_627 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v677 : Index := Scalar.indexCast v226
  let c58 : Index := 58#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v678 : Index := Scalar.indexCast v327
  let c0_628 : Index := 0#32
  ![0, v677.toNat, 58, v678.toNat, 0]
def k0_off2674 (v1 : BitVec 32) (k0_t51 : Fin (k0_t51_loop v1).trips) (v228 : BitVec 32) (v257 : BitVec 32) (k0_t57 : Fin (k0_t57_loop v228 v257).trips) : Fin 5 → Nat :=
  let c0_630 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v683 : Index := Scalar.indexCast v226
  let c59 : Index := 59#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v684 : Index := Scalar.indexCast v327
  let c0_631 : Index := 0#32
  ![0, v683.toNat, 59, v684.toNat, 0]
def k0_off2675 (v1 : BitVec 32) (k0_t51 : Fin (k0_t51_loop v1).trips) (v228 : BitVec 32) (v257 : BitVec 32) (k0_t57 : Fin (k0_t57_loop v228 v257).trips) : Fin 5 → Nat :=
  let c0_633 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v689 : Index := Scalar.indexCast v226
  let c60 : Index := 60#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v690 : Index := Scalar.indexCast v327
  let c0_634 : Index := 0#32
  ![0, v689.toNat, 60, v690.toNat, 0]
def k0_off2676 (v1 : BitVec 32) (k0_t51 : Fin (k0_t51_loop v1).trips) (v228 : BitVec 32) (v257 : BitVec 32) (k0_t57 : Fin (k0_t57_loop v228 v257).trips) : Fin 5 → Nat :=
  let c0_636 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v695 : Index := Scalar.indexCast v226
  let c61 : Index := 61#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v696 : Index := Scalar.indexCast v327
  let c0_637 : Index := 0#32
  ![0, v695.toNat, 61, v696.toNat, 0]
def k0_off2677 (v1 : BitVec 32) (k0_t51 : Fin (k0_t51_loop v1).trips) (v228 : BitVec 32) (v257 : BitVec 32) (k0_t57 : Fin (k0_t57_loop v228 v257).trips) : Fin 5 → Nat :=
  let c0_639 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v701 : Index := Scalar.indexCast v226
  let c62 : Index := 62#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v702 : Index := Scalar.indexCast v327
  let c0_640 : Index := 0#32
  ![0, v701.toNat, 62, v702.toNat, 0]
def k0_off2678 (v1 : BitVec 32) (k0_t51 : Fin (k0_t51_loop v1).trips) (v228 : BitVec 32) (v257 : BitVec 32) (k0_t57 : Fin (k0_t57_loop v228 v257).trips) : Fin 5 → Nat :=
  let c0_642 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v707 : Index := Scalar.indexCast v226
  let c63 : Index := 63#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v708 : Index := Scalar.indexCast v327
  let c0_643 : Index := 0#32
  ![0, v707.toNat, 63, v708.toNat, 0]
def k0_off2679 (v1 : BitVec 32) (k0_t51 : Fin (k0_t51_loop v1).trips) (v228 : BitVec 32) (v257 : BitVec 32) (k0_t57 : Fin (k0_t57_loop v228 v257).trips) : Fin 5 → Nat :=
  let c0_645 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v713 : Index := Scalar.indexCast v226
  let c64 : Index := 64#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v714 : Index := Scalar.indexCast v327
  let c0_646 : Index := 0#32
  ![0, v713.toNat, 64, v714.toNat, 0]
def k0_off2680 (v1 : BitVec 32) (k0_t51 : Fin (k0_t51_loop v1).trips) (v228 : BitVec 32) (v257 : BitVec 32) (k0_t57 : Fin (k0_t57_loop v228 v257).trips) : Fin 5 → Nat :=
  let c0_648 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v719 : Index := Scalar.indexCast v226
  let c65 : Index := 65#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v720 : Index := Scalar.indexCast v327
  let c0_649 : Index := 0#32
  ![0, v719.toNat, 65, v720.toNat, 0]
def k0_off2681 (v1 : BitVec 32) (k0_t51 : Fin (k0_t51_loop v1).trips) (v228 : BitVec 32) (v257 : BitVec 32) (k0_t57 : Fin (k0_t57_loop v228 v257).trips) : Fin 5 → Nat :=
  let c0_651 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v725 : Index := Scalar.indexCast v226
  let c66 : Index := 66#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v726 : Index := Scalar.indexCast v327
  let c0_652 : Index := 0#32
  ![0, v725.toNat, 66, v726.toNat, 0]
def k0_off2682 (v1 : BitVec 32) (k0_t51 : Fin (k0_t51_loop v1).trips) (v228 : BitVec 32) (v257 : BitVec 32) (k0_t57 : Fin (k0_t57_loop v228 v257).trips) : Fin 5 → Nat :=
  let c0_654 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v731 : Index := Scalar.indexCast v226
  let c67 : Index := 67#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v732 : Index := Scalar.indexCast v327
  let c0_655 : Index := 0#32
  ![0, v731.toNat, 67, v732.toNat, 0]
def k0_off2683 (v1 : BitVec 32) (k0_t51 : Fin (k0_t51_loop v1).trips) (v228 : BitVec 32) (v257 : BitVec 32) (k0_t57 : Fin (k0_t57_loop v228 v257).trips) : Fin 5 → Nat :=
  let c0_657 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v737 : Index := Scalar.indexCast v226
  let c68 : Index := 68#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v738 : Index := Scalar.indexCast v327
  let c0_658 : Index := 0#32
  ![0, v737.toNat, 68, v738.toNat, 0]
def k0_off2684 (v1 : BitVec 32) (k0_t51 : Fin (k0_t51_loop v1).trips) (v228 : BitVec 32) (v257 : BitVec 32) (k0_t57 : Fin (k0_t57_loop v228 v257).trips) : Fin 5 → Nat :=
  let c0_660 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v743 : Index := Scalar.indexCast v226
  let c69 : Index := 69#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v744 : Index := Scalar.indexCast v327
  let c0_661 : Index := 0#32
  ![0, v743.toNat, 69, v744.toNat, 0]
def k0_off2685 (v1 : BitVec 32) (k0_t51 : Fin (k0_t51_loop v1).trips) (v228 : BitVec 32) (v257 : BitVec 32) (k0_t57 : Fin (k0_t57_loop v228 v257).trips) : Fin 5 → Nat :=
  let c0_663 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v749 : Index := Scalar.indexCast v226
  let c70 : Index := 70#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v750 : Index := Scalar.indexCast v327
  let c0_664 : Index := 0#32
  ![0, v749.toNat, 70, v750.toNat, 0]
def k0_off2686 (v1 : BitVec 32) (k0_t51 : Fin (k0_t51_loop v1).trips) (v228 : BitVec 32) (v257 : BitVec 32) (k0_t57 : Fin (k0_t57_loop v228 v257).trips) : Fin 5 → Nat :=
  let c0_666 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v755 : Index := Scalar.indexCast v226
  let c71 : Index := 71#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v756 : Index := Scalar.indexCast v327
  let c0_667 : Index := 0#32
  ![0, v755.toNat, 71, v756.toNat, 0]
def k0_off2687 (v1 : BitVec 32) (k0_t51 : Fin (k0_t51_loop v1).trips) (v228 : BitVec 32) (v257 : BitVec 32) (k0_t57 : Fin (k0_t57_loop v228 v257).trips) : Fin 5 → Nat :=
  let c0_669 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v761 : Index := Scalar.indexCast v226
  let c72 : Index := 72#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v762 : Index := Scalar.indexCast v327
  let c0_670 : Index := 0#32
  ![0, v761.toNat, 72, v762.toNat, 0]
def k0_off2688 (v1 : BitVec 32) (k0_t51 : Fin (k0_t51_loop v1).trips) (v228 : BitVec 32) (v257 : BitVec 32) (k0_t57 : Fin (k0_t57_loop v228 v257).trips) : Fin 5 → Nat :=
  let c0_672 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v767 : Index := Scalar.indexCast v226
  let c73 : Index := 73#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v768 : Index := Scalar.indexCast v327
  let c0_673 : Index := 0#32
  ![0, v767.toNat, 73, v768.toNat, 0]
def k0_off2689 (v1 : BitVec 32) (k0_t51 : Fin (k0_t51_loop v1).trips) (v228 : BitVec 32) (v257 : BitVec 32) (k0_t57 : Fin (k0_t57_loop v228 v257).trips) : Fin 5 → Nat :=
  let c0_675 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v773 : Index := Scalar.indexCast v226
  let c74 : Index := 74#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v774 : Index := Scalar.indexCast v327
  let c0_676 : Index := 0#32
  ![0, v773.toNat, 74, v774.toNat, 0]
def k0_off2690 (v1 : BitVec 32) (k0_t51 : Fin (k0_t51_loop v1).trips) (v228 : BitVec 32) (v257 : BitVec 32) (k0_t57 : Fin (k0_t57_loop v228 v257).trips) : Fin 5 → Nat :=
  let c0_678 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v779 : Index := Scalar.indexCast v226
  let c75 : Index := 75#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v780 : Index := Scalar.indexCast v327
  let c0_679 : Index := 0#32
  ![0, v779.toNat, 75, v780.toNat, 0]
def k0_off2691 (v1 : BitVec 32) (k0_t51 : Fin (k0_t51_loop v1).trips) (v228 : BitVec 32) (v257 : BitVec 32) (k0_t57 : Fin (k0_t57_loop v228 v257).trips) : Fin 5 → Nat :=
  let c0_681 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v785 : Index := Scalar.indexCast v226
  let c76 : Index := 76#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v786 : Index := Scalar.indexCast v327
  let c0_682 : Index := 0#32
  ![0, v785.toNat, 76, v786.toNat, 0]
def k0_off2692 (v1 : BitVec 32) (k0_t51 : Fin (k0_t51_loop v1).trips) (v228 : BitVec 32) (v257 : BitVec 32) (k0_t57 : Fin (k0_t57_loop v228 v257).trips) : Fin 5 → Nat :=
  let c0_684 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v791 : Index := Scalar.indexCast v226
  let c77 : Index := 77#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v792 : Index := Scalar.indexCast v327
  let c0_685 : Index := 0#32
  ![0, v791.toNat, 77, v792.toNat, 0]
def k0_off2693 (v1 : BitVec 32) (k0_t51 : Fin (k0_t51_loop v1).trips) (v228 : BitVec 32) (v257 : BitVec 32) (k0_t57 : Fin (k0_t57_loop v228 v257).trips) : Fin 5 → Nat :=
  let c0_687 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v797 : Index := Scalar.indexCast v226
  let c78 : Index := 78#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v798 : Index := Scalar.indexCast v327
  let c0_688 : Index := 0#32
  ![0, v797.toNat, 78, v798.toNat, 0]
def k0_off2694 (v1 : BitVec 32) (k0_t51 : Fin (k0_t51_loop v1).trips) (v228 : BitVec 32) (v257 : BitVec 32) (k0_t57 : Fin (k0_t57_loop v228 v257).trips) : Fin 5 → Nat :=
  let c0_690 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v803 : Index := Scalar.indexCast v226
  let c79 : Index := 79#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v804 : Index := Scalar.indexCast v327
  let c0_691 : Index := 0#32
  ![0, v803.toNat, 79, v804.toNat, 0]
def k0_off2695 (v1 : BitVec 32) (k0_t51 : Fin (k0_t51_loop v1).trips) (v228 : BitVec 32) (v257 : BitVec 32) (k0_t57 : Fin (k0_t57_loop v228 v257).trips) : Fin 5 → Nat :=
  let c0_693 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v809 : Index := Scalar.indexCast v226
  let c80 : Index := 80#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v810 : Index := Scalar.indexCast v327
  let c0_694 : Index := 0#32
  ![0, v809.toNat, 80, v810.toNat, 0]
def k0_off2696 (v1 : BitVec 32) (k0_t51 : Fin (k0_t51_loop v1).trips) (v228 : BitVec 32) (v257 : BitVec 32) (k0_t57 : Fin (k0_t57_loop v228 v257).trips) : Fin 5 → Nat :=
  let c0_696 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v815 : Index := Scalar.indexCast v226
  let c81 : Index := 81#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v816 : Index := Scalar.indexCast v327
  let c0_697 : Index := 0#32
  ![0, v815.toNat, 81, v816.toNat, 0]
def k0_off2697 (v1 : BitVec 32) (k0_t51 : Fin (k0_t51_loop v1).trips) (v228 : BitVec 32) (v257 : BitVec 32) (k0_t57 : Fin (k0_t57_loop v228 v257).trips) : Fin 5 → Nat :=
  let c0_699 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v821 : Index := Scalar.indexCast v226
  let c82 : Index := 82#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v822 : Index := Scalar.indexCast v327
  let c0_700 : Index := 0#32
  ![0, v821.toNat, 82, v822.toNat, 0]
def k0_off2698 (v1 : BitVec 32) (k0_t51 : Fin (k0_t51_loop v1).trips) (v228 : BitVec 32) (v257 : BitVec 32) (k0_t57 : Fin (k0_t57_loop v228 v257).trips) : Fin 5 → Nat :=
  let c0_702 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v827 : Index := Scalar.indexCast v226
  let c83 : Index := 83#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v828 : Index := Scalar.indexCast v327
  let c0_703 : Index := 0#32
  ![0, v827.toNat, 83, v828.toNat, 0]
def k0_off2699 (v1 : BitVec 32) (k0_t51 : Fin (k0_t51_loop v1).trips) (v228 : BitVec 32) (v257 : BitVec 32) (k0_t57 : Fin (k0_t57_loop v228 v257).trips) : Fin 5 → Nat :=
  let c0_705 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v833 : Index := Scalar.indexCast v226
  let c84 : Index := 84#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v834 : Index := Scalar.indexCast v327
  let c0_706 : Index := 0#32
  ![0, v833.toNat, 84, v834.toNat, 0]
def k0_off2700 (v1 : BitVec 32) (k0_t51 : Fin (k0_t51_loop v1).trips) (v228 : BitVec 32) (v257 : BitVec 32) (k0_t57 : Fin (k0_t57_loop v228 v257).trips) : Fin 5 → Nat :=
  let c0_708 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v839 : Index := Scalar.indexCast v226
  let c85 : Index := 85#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v840 : Index := Scalar.indexCast v327
  let c0_709 : Index := 0#32
  ![0, v839.toNat, 85, v840.toNat, 0]
def k0_off2701 (v1 : BitVec 32) (k0_t51 : Fin (k0_t51_loop v1).trips) (v228 : BitVec 32) (v257 : BitVec 32) (k0_t57 : Fin (k0_t57_loop v228 v257).trips) : Fin 5 → Nat :=
  let c0_711 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v845 : Index := Scalar.indexCast v226
  let c86 : Index := 86#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v846 : Index := Scalar.indexCast v327
  let c0_712 : Index := 0#32
  ![0, v845.toNat, 86, v846.toNat, 0]
def k0_off2702 (v1 : BitVec 32) (k0_t51 : Fin (k0_t51_loop v1).trips) (v228 : BitVec 32) (v257 : BitVec 32) (k0_t57 : Fin (k0_t57_loop v228 v257).trips) : Fin 5 → Nat :=
  let c0_714 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v851 : Index := Scalar.indexCast v226
  let c87 : Index := 87#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v852 : Index := Scalar.indexCast v327
  let c0_715 : Index := 0#32
  ![0, v851.toNat, 87, v852.toNat, 0]
def k0_off2703 (v1 : BitVec 32) (k0_t51 : Fin (k0_t51_loop v1).trips) (v228 : BitVec 32) (v257 : BitVec 32) (k0_t57 : Fin (k0_t57_loop v228 v257).trips) : Fin 5 → Nat :=
  let c0_717 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v857 : Index := Scalar.indexCast v226
  let c88 : Index := 88#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v858 : Index := Scalar.indexCast v327
  let c0_718 : Index := 0#32
  ![0, v857.toNat, 88, v858.toNat, 0]
def k0_off2704 (v1 : BitVec 32) (k0_t51 : Fin (k0_t51_loop v1).trips) (v228 : BitVec 32) (v257 : BitVec 32) (k0_t57 : Fin (k0_t57_loop v228 v257).trips) : Fin 5 → Nat :=
  let c0_720 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v863 : Index := Scalar.indexCast v226
  let c89 : Index := 89#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v864 : Index := Scalar.indexCast v327
  let c0_721 : Index := 0#32
  ![0, v863.toNat, 89, v864.toNat, 0]
def k0_off2705 (v1 : BitVec 32) (k0_t51 : Fin (k0_t51_loop v1).trips) (v228 : BitVec 32) (v257 : BitVec 32) (k0_t57 : Fin (k0_t57_loop v228 v257).trips) : Fin 5 → Nat :=
  let c0_723 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v869 : Index := Scalar.indexCast v226
  let c90 : Index := 90#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v870 : Index := Scalar.indexCast v327
  let c0_724 : Index := 0#32
  ![0, v869.toNat, 90, v870.toNat, 0]
def k0_off2706 (v1 : BitVec 32) (k0_t51 : Fin (k0_t51_loop v1).trips) (v228 : BitVec 32) (v257 : BitVec 32) (k0_t57 : Fin (k0_t57_loop v228 v257).trips) : Fin 5 → Nat :=
  let c0_726 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v875 : Index := Scalar.indexCast v226
  let c91 : Index := 91#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v876 : Index := Scalar.indexCast v327
  let c0_727 : Index := 0#32
  ![0, v875.toNat, 91, v876.toNat, 0]
def k0_off2707 (v1 : BitVec 32) (k0_t51 : Fin (k0_t51_loop v1).trips) (v228 : BitVec 32) (v257 : BitVec 32) (k0_t57 : Fin (k0_t57_loop v228 v257).trips) : Fin 5 → Nat :=
  let c0_729 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v881 : Index := Scalar.indexCast v226
  let c92 : Index := 92#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v882 : Index := Scalar.indexCast v327
  let c0_730 : Index := 0#32
  ![0, v881.toNat, 92, v882.toNat, 0]
def k0_off2708 (v1 : BitVec 32) (k0_t51 : Fin (k0_t51_loop v1).trips) (v228 : BitVec 32) (v257 : BitVec 32) (k0_t57 : Fin (k0_t57_loop v228 v257).trips) : Fin 5 → Nat :=
  let c0_732 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v887 : Index := Scalar.indexCast v226
  let c93 : Index := 93#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v888 : Index := Scalar.indexCast v327
  let c0_733 : Index := 0#32
  ![0, v887.toNat, 93, v888.toNat, 0]
def k0_off2709 (v1 : BitVec 32) (k0_t51 : Fin (k0_t51_loop v1).trips) (v228 : BitVec 32) (v257 : BitVec 32) (k0_t57 : Fin (k0_t57_loop v228 v257).trips) : Fin 5 → Nat :=
  let c0_735 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v893 : Index := Scalar.indexCast v226
  let c94 : Index := 94#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v894 : Index := Scalar.indexCast v327
  let c0_736 : Index := 0#32
  ![0, v893.toNat, 94, v894.toNat, 0]
def k0_off2710 (v1 : BitVec 32) (k0_t51 : Fin (k0_t51_loop v1).trips) (v228 : BitVec 32) (v257 : BitVec 32) (k0_t57 : Fin (k0_t57_loop v228 v257).trips) : Fin 5 → Nat :=
  let c0_738 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v899 : Index := Scalar.indexCast v226
  let c95 : Index := 95#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v900 : Index := Scalar.indexCast v327
  let c0_739 : Index := 0#32
  ![0, v899.toNat, 95, v900.toNat, 0]
def k0_off2711 (v1 : BitVec 32) (k0_t51 : Fin (k0_t51_loop v1).trips) (v228 : BitVec 32) (v257 : BitVec 32) (k0_t57 : Fin (k0_t57_loop v228 v257).trips) : Fin 5 → Nat :=
  let c0_741 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v905 : Index := Scalar.indexCast v226
  let c96 : Index := 96#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v906 : Index := Scalar.indexCast v327
  let c0_742 : Index := 0#32
  ![0, v905.toNat, 96, v906.toNat, 0]
def k0_off2712 (v1 : BitVec 32) (k0_t51 : Fin (k0_t51_loop v1).trips) (v228 : BitVec 32) (v257 : BitVec 32) (k0_t57 : Fin (k0_t57_loop v228 v257).trips) : Fin 5 → Nat :=
  let c0_744 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v911 : Index := Scalar.indexCast v226
  let c97 : Index := 97#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v912 : Index := Scalar.indexCast v327
  let c0_745 : Index := 0#32
  ![0, v911.toNat, 97, v912.toNat, 0]
def k0_off2713 (v1 : BitVec 32) (k0_t51 : Fin (k0_t51_loop v1).trips) (v228 : BitVec 32) (v257 : BitVec 32) (k0_t57 : Fin (k0_t57_loop v228 v257).trips) : Fin 5 → Nat :=
  let c0_747 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v917 : Index := Scalar.indexCast v226
  let c98 : Index := 98#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v918 : Index := Scalar.indexCast v327
  let c0_748 : Index := 0#32
  ![0, v917.toNat, 98, v918.toNat, 0]
def k0_off2714 (v1 : BitVec 32) (k0_t51 : Fin (k0_t51_loop v1).trips) (v228 : BitVec 32) (v257 : BitVec 32) (k0_t57 : Fin (k0_t57_loop v228 v257).trips) : Fin 5 → Nat :=
  let c0_750 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v923 : Index := Scalar.indexCast v226
  let c99 : Index := 99#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v924 : Index := Scalar.indexCast v327
  let c0_751 : Index := 0#32
  ![0, v923.toNat, 99, v924.toNat, 0]
def k0_off2715 (v1 : BitVec 32) (k0_t51 : Fin (k0_t51_loop v1).trips) (v228 : BitVec 32) (v257 : BitVec 32) (k0_t57 : Fin (k0_t57_loop v228 v257).trips) : Fin 5 → Nat :=
  let c0_753 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v929 : Index := Scalar.indexCast v226
  let c100 : Index := 100#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v930 : Index := Scalar.indexCast v327
  let c0_754 : Index := 0#32
  ![0, v929.toNat, 100, v930.toNat, 0]
def k0_off2716 (v1 : BitVec 32) (k0_t51 : Fin (k0_t51_loop v1).trips) (v228 : BitVec 32) (v257 : BitVec 32) (k0_t57 : Fin (k0_t57_loop v228 v257).trips) : Fin 5 → Nat :=
  let c0_756 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v935 : Index := Scalar.indexCast v226
  let c101 : Index := 101#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v936 : Index := Scalar.indexCast v327
  let c0_757 : Index := 0#32
  ![0, v935.toNat, 101, v936.toNat, 0]
def k0_off2717 (v1 : BitVec 32) (k0_t51 : Fin (k0_t51_loop v1).trips) (v228 : BitVec 32) (v257 : BitVec 32) (k0_t57 : Fin (k0_t57_loop v228 v257).trips) : Fin 5 → Nat :=
  let c0_759 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v941 : Index := Scalar.indexCast v226
  let c102 : Index := 102#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v942 : Index := Scalar.indexCast v327
  let c0_760 : Index := 0#32
  ![0, v941.toNat, 102, v942.toNat, 0]
def k0_off2718 (v1 : BitVec 32) (k0_t51 : Fin (k0_t51_loop v1).trips) (v228 : BitVec 32) (v257 : BitVec 32) (k0_t57 : Fin (k0_t57_loop v228 v257).trips) : Fin 5 → Nat :=
  let c0_762 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v947 : Index := Scalar.indexCast v226
  let c103 : Index := 103#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v948 : Index := Scalar.indexCast v327
  let c0_763 : Index := 0#32
  ![0, v947.toNat, 103, v948.toNat, 0]
def k0_off2719 (v1 : BitVec 32) (k0_t51 : Fin (k0_t51_loop v1).trips) (v228 : BitVec 32) (v257 : BitVec 32) (k0_t57 : Fin (k0_t57_loop v228 v257).trips) : Fin 5 → Nat :=
  let c0_765 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v953 : Index := Scalar.indexCast v226
  let c104 : Index := 104#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v954 : Index := Scalar.indexCast v327
  let c0_766 : Index := 0#32
  ![0, v953.toNat, 104, v954.toNat, 0]
def k0_off2720 (v1 : BitVec 32) (k0_t51 : Fin (k0_t51_loop v1).trips) (v228 : BitVec 32) (v257 : BitVec 32) (k0_t57 : Fin (k0_t57_loop v228 v257).trips) : Fin 5 → Nat :=
  let c0_768 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v959 : Index := Scalar.indexCast v226
  let c105 : Index := 105#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v960 : Index := Scalar.indexCast v327
  let c0_769 : Index := 0#32
  ![0, v959.toNat, 105, v960.toNat, 0]
def k0_off2721 (v1 : BitVec 32) (k0_t51 : Fin (k0_t51_loop v1).trips) (v228 : BitVec 32) (v257 : BitVec 32) (k0_t57 : Fin (k0_t57_loop v228 v257).trips) : Fin 5 → Nat :=
  let c0_771 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v965 : Index := Scalar.indexCast v226
  let c106 : Index := 106#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v966 : Index := Scalar.indexCast v327
  let c0_772 : Index := 0#32
  ![0, v965.toNat, 106, v966.toNat, 0]
def k0_off2722 (v1 : BitVec 32) (k0_t51 : Fin (k0_t51_loop v1).trips) (v228 : BitVec 32) (v257 : BitVec 32) (k0_t57 : Fin (k0_t57_loop v228 v257).trips) : Fin 5 → Nat :=
  let c0_774 : Index := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v971 : Index := Scalar.indexCast v226
  let c107 : Index := 107#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_411 : BitVec 32 := 8#32
  let v279 : BitVec 32 := Scalar.subi c8_i32_411 v265
  let c1_i32_412 : BitVec 32 := 1#32
  let v281 : BitVec 32 := Scalar.divsi v279 c1_i32_412
  let v282 : BitVec 32 := Scalar.muli v281 c1_i32_412
  let v283 : BitVec 32 := Scalar.addi v265 v282
  let c1_i32_414 : BitVec 32 := 1#32
  let arg19 : BitVec 32 := Scf.iv v283 c1_i32_414 k0_t57
  let c16_i32_452 : BitVec 32 := 16#32
  let v326 : BitVec 32 := Scalar.muli arg19 c16_i32_452
  let v327 : BitVec 32 := v326
  let v972 : Index := Scalar.indexCast v327
  let c0_775 : Index := 0#32
  ![0, v971.toNat, 107, v972.toNat, 0]
def k0_off2723 (v1 : BitVec 32) (k0_t51 : Fin (k0_t51_loop v1).trips) : Fin 1 → Nat :=
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_452 : BitVec 32 := 2#32
  let v326 : BitVec 32 := Scalar.addi arg18 c2_i32_452
  let v327 : Index := Scalar.indexCast v326
  ![v327.toNat]
def k0_cond8 (v1 : BitVec 32) (k0_t51 : Fin (k0_t51_loop v1).trips) : BitVec 1 :=
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_415 : BitVec 32 := 2#32
  let v284 : BitVec 32 := Scalar.addi arg18 c2_i32_415
  let v285 : BitVec 1 := Scalar.cmpi .slt v284 v1
  let v286 : BitVec 32 := Scalar.extui v285
  let c0_i32_416 : BitVec 32 := 0#32
  let v287 : BitVec 1 := Scalar.cmpi .ne v286 c0_i32_416
  v287

def k0_off2724 (v328 : BitVec 32) : Fin 1 → Nat :=
  let c0_i32_454 : BitVec 32 := 0#32
  let v330 : BitVec 1 := Scalar.cmpi .sgt v328 c0_i32_454
  let v331 : BitVec 32 := Scalar.extui v330
  let c0_i32_455 : BitVec 32 := 0#32
  let v332 : BitVec 1 := Scalar.cmpi .slt v328 c0_i32_455
  let v333 : BitVec 32 := Scalar.extui v332
  let v334 : BitVec 32 := Scalar.subi v331 v333
  let c16_i32_453 : BitVec 32 := 16#32
  let c0_i32_456 : BitVec 32 := 0#32
  let v335 : BitVec 1 := Scalar.cmpi .sgt c16_i32_453 c0_i32_456
  let v336 : BitVec 32 := Scalar.extui v335
  let c0_i32_457 : BitVec 32 := 0#32
  let v337 : BitVec 1 := Scalar.cmpi .slt c16_i32_453 c0_i32_457
  let v338 : BitVec 32 := Scalar.extui v337
  let v339 : BitVec 32 := Scalar.subi v336 v338
  let v340 : BitVec 1 := Scalar.cmpi .ne v334 v339
  let v341 : BitVec 32 := Scalar.remsi v328 c16_i32_453
  let c0_i32_458 : BitVec 32 := 0#32
  let v342 : BitVec 1 := Scalar.cmpi .ne v341 c0_i32_458
  let v343 : BitVec 1 := Scalar.andi v340 v342
  let v329 : BitVec 32 := Scalar.divsi v328 c16_i32_453
  let c1_i32_459 : BitVec 32 := 1#32
  let v344 : BitVec 32 := Scalar.subi v329 c1_i32_459
  let v345 : BitVec 32 := Scalar.select v343 v344 v329
  let v356 : Index := Scalar.indexCast v345
  ![v356.toNat]

def k0_chk38 (v1 : BitVec 32) (k0_t51 : Fin (k0_t51_loop v1).trips) (v328 : BitVec 32) : Prop :=
  (∀ (k0_h8 : k0_cond8 v1 k0_t51 = 1#1), ∀ a, (k0_off2724 v328) a + S1.size a ≤ S8.size a)
theorem k0_off2724_inb : ∀ (v1 : BitVec 32) (k0_t51 : Fin (k0_t51_loop v1).trips) (v328 : BitVec 32) (k0_hw38 : k0_chk38 v1 k0_t51 v328), ∀ (k0_h8 : k0_cond8 v1 k0_t51 = 1#1), ∀ a, (k0_off2724 v328) a + S1.size a ≤ S8.size a := fun v1 k0_t51 v328 k0_hw38 k0_h8 => k0_hw38 k0_h8

@[reducible] def k0_t58_loop (v328 : BitVec 32) (v357 : BitVec 32) : Scf.Loop 32 :=
  let c0_i32_474 : BitVec 32 := 0#32
  let c8_i32_472 : BitVec 32 := 8#32
  let c0_i32_471 : BitVec 32 := 0#32
  let c2048_i32_467 : BitVec 32 := 2048#32
  let c0_i32_466 : BitVec 32 := 0#32
  let v358 : BitVec 32 := Scalar.maxsi c0_i32_466 v357
  let v359 : BitVec 32 := Scalar.minsi c2048_i32_467 v358
  let c15_i32_468 : BitVec 32 := 15#32
  let v360 : BitVec 32 := Scalar.addi v359 c15_i32_468
  let c16_i32_469 : BitVec 32 := 16#32
  let v361 : BitVec 32 := Scalar.divsi v360 c16_i32_469
  let c16_i32_460 : BitVec 32 := 16#32
  let c0_i32_461 : BitVec 32 := 0#32
  let v346 : BitVec 1 := Scalar.cmpi .eq c16_i32_460 c0_i32_461
  let c1_i32_462 : BitVec 32 := 1#32
  let v347 : BitVec 32 := Scalar.select v346 c1_i32_462 c16_i32_460
  let v348 : BitVec 32 := Scalar.remsi v328 v347
  let c0_i32_464 : BitVec 32 := 0#32
  let v350 : BitVec 1 := Scalar.cmpi .slt v348 c0_i32_464
  let c0_i32_465 : BitVec 32 := 0#32
  let v351 : BitVec 1 := Scalar.cmpi .slt v347 c0_i32_465
  let v352 : BitVec 1 := Scalar.xori v350 v351
  let c0_i32_463 : BitVec 32 := 0#32
  let v349 : BitVec 1 := Scalar.cmpi .ne v348 c0_i32_463
  let v353 : BitVec 1 := Scalar.andi v352 v349
  let v354 : BitVec 32 := Scalar.addi v348 v347
  let v355 : BitVec 32 := Scalar.select v353 v354 v348
  let c8_i32_470 : BitVec 32 := 8#32
  let v362 : BitVec 32 := Scalar.muli v355 c8_i32_470
  let v363 : BitVec 32 := Scalar.subi v361 v362
  let v364 : BitVec 32 := Scalar.maxsi c0_i32_471 v363
  let v365 : BitVec 32 := Scalar.minsi c8_i32_472 v364
  let v366 : BitVec 32 := Scalar.subi v365 c0_i32_474
  let c1_i32_475 : BitVec 32 := 1#32
  let v368 : BitVec 32 := Scalar.divsi v366 c1_i32_475
  let v369 : BitVec 32 := Scalar.muli v368 c1_i32_475
  let v370 : BitVec 32 := Scalar.addi c0_i32_474 v369
  let c1_i32_476 : BitVec 32 := 1#32
  ⟨c0_i32_474, v370, c1_i32_476⟩

def k0_off2725 (v328 : BitVec 32) (v357 : BitVec 32) (k0_t58 : Fin (k0_t58_loop v328 v357).trips) : Fin 2 → Nat :=
  let c0_i32_454 : BitVec 32 := 0#32
  let v330 : BitVec 1 := Scalar.cmpi .sgt v328 c0_i32_454
  let v331 : BitVec 32 := Scalar.extui v330
  let c0_i32_455 : BitVec 32 := 0#32
  let v332 : BitVec 1 := Scalar.cmpi .slt v328 c0_i32_455
  let v333 : BitVec 32 := Scalar.extui v332
  let v334 : BitVec 32 := Scalar.subi v331 v333
  let c16_i32_453 : BitVec 32 := 16#32
  let c0_i32_456 : BitVec 32 := 0#32
  let v335 : BitVec 1 := Scalar.cmpi .sgt c16_i32_453 c0_i32_456
  let v336 : BitVec 32 := Scalar.extui v335
  let c0_i32_457 : BitVec 32 := 0#32
  let v337 : BitVec 1 := Scalar.cmpi .slt c16_i32_453 c0_i32_457
  let v338 : BitVec 32 := Scalar.extui v337
  let v339 : BitVec 32 := Scalar.subi v336 v338
  let v340 : BitVec 1 := Scalar.cmpi .ne v334 v339
  let v341 : BitVec 32 := Scalar.remsi v328 c16_i32_453
  let c0_i32_458 : BitVec 32 := 0#32
  let v342 : BitVec 1 := Scalar.cmpi .ne v341 c0_i32_458
  let v343 : BitVec 1 := Scalar.andi v340 v342
  let v329 : BitVec 32 := Scalar.divsi v328 c16_i32_453
  let c1_i32_459 : BitVec 32 := 1#32
  let v344 : BitVec 32 := Scalar.subi v329 c1_i32_459
  let v345 : BitVec 32 := Scalar.select v343 v344 v329
  let v373 : Index := Scalar.indexCast v345
  let c16_i32_460 : BitVec 32 := 16#32
  let c0_i32_461 : BitVec 32 := 0#32
  let v346 : BitVec 1 := Scalar.cmpi .eq c16_i32_460 c0_i32_461
  let c1_i32_462 : BitVec 32 := 1#32
  let v347 : BitVec 32 := Scalar.select v346 c1_i32_462 c16_i32_460
  let v348 : BitVec 32 := Scalar.remsi v328 v347
  let c0_i32_464 : BitVec 32 := 0#32
  let v350 : BitVec 1 := Scalar.cmpi .slt v348 c0_i32_464
  let c0_i32_465 : BitVec 32 := 0#32
  let v351 : BitVec 1 := Scalar.cmpi .slt v347 c0_i32_465
  let v352 : BitVec 1 := Scalar.xori v350 v351
  let c0_i32_463 : BitVec 32 := 0#32
  let v349 : BitVec 1 := Scalar.cmpi .ne v348 c0_i32_463
  let v353 : BitVec 1 := Scalar.andi v352 v349
  let v354 : BitVec 32 := Scalar.addi v348 v347
  let v355 : BitVec 32 := Scalar.select v353 v354 v348
  let c8_i32_478 : BitVec 32 := 8#32
  let v371 : BitVec 32 := Scalar.muli v355 c8_i32_478
  let c0_i32_474 : BitVec 32 := 0#32
  let c1_i32_476 : BitVec 32 := 1#32
  let arg19 : BitVec 32 := Scf.iv c0_i32_474 c1_i32_476 k0_t58
  let v372 : BitVec 32 := Scalar.addi v371 arg19
  let v374 : Index := Scalar.indexCast v372
  ![v373.toNat, v374.toNat]
def k0_off2726 (v1 : BitVec 32) (k0_t51 : Fin (k0_t51_loop v1).trips) : Fin 2 → Nat :=
  let c0_i32_480 : BitVec 32 := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  ![0, v226.toNat]
def k0_off2727 (v1 : BitVec 32) (k0_t51 : Fin (k0_t51_loop v1).trips) (v328 : BitVec 32) (v357 : BitVec 32) (k0_t58 : Fin (k0_t58_loop v328 v357).trips) : Fin 5 → Nat :=
  let c0_i32_479 : BitVec 32 := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let c0_i32_474 : BitVec 32 := 0#32
  let c1_i32_476 : BitVec 32 := 1#32
  let arg19 : BitVec 32 := Scf.iv c0_i32_474 c1_i32_476 k0_t58
  let c0_i32_481 : BitVec 32 := 0#32
  let c0_i32_482 : BitVec 32 := 0#32
  ![0, v226.toNat, arg19.toNat, 0, 0]
def k0_off2728 (v375 : BitVec 32) : Fin 3 → Nat :=
  let c0_i32_483 : BitVec 32 := 0#32
  let c0_i32_484 : BitVec 32 := 0#32
  ![v375.toNat, 0, 0]

def k0_chk40 (v1 : BitVec 32) (k0_t51 : Fin (k0_t51_loop v1).trips) (v375 : BitVec 32) : Prop :=
  (∀ (k0_h8 : k0_cond8 v1 k0_t51 = 1#1), ∀ a, (k0_off2728 v375) a + S1x1728x128.size a ≤ S1280x1728x128.size a) ∧
  (∀ (k0_h8 : k0_cond8 v1 k0_t51 = 1#1), ∀ (hinb : ∀ a, (k0_off2728 v375) a + S1x1728x128.size a ≤ S1280x1728x128.size a), (Rect.unit (s := S1280x1728x128) (k0_off2728 v375) S1x1728x128.size hinb).WholeWords (EltTy.packing .fp8e4m3))
theorem k0_off2728_inb : ∀ (v1 : BitVec 32) (k0_t51 : Fin (k0_t51_loop v1).trips) (v375 : BitVec 32) (k0_hw40 : k0_chk40 v1 k0_t51 v375), ∀ (k0_h8 : k0_cond8 v1 k0_t51 = 1#1), ∀ a, (k0_off2728 v375) a + S1x1728x128.size a ≤ S1280x1728x128.size a := fun v1 k0_t51 v375 k0_hw40 k0_h8 => k0_hw40.1 k0_h8
theorem k0_off2728_wordsfp8e4m3 : ∀ (v1 : BitVec 32) (k0_t51 : Fin (k0_t51_loop v1).trips) (v375 : BitVec 32) (k0_hw40 : k0_chk40 v1 k0_t51 v375), ∀ (k0_h8 : k0_cond8 v1 k0_t51 = 1#1), (Rect.unit (s := S1280x1728x128) (k0_off2728 v375) S1x1728x128.size (k0_off2728_inb v1 k0_t51 v375 k0_hw40 k0_h8)).WholeWords (EltTy.packing .fp8e4m3) := fun v1 k0_t51 v375 k0_hw40 k0_h8 => k0_hw40.2 k0_h8 (k0_off2728_inb v1 k0_t51 v375 k0_hw40 k0_h8)

@[reducible] def k0_t59_loop (v328 : BitVec 32) (v357 : BitVec 32) : Scf.Loop 32 :=
  let c0_i32_474 : BitVec 32 := 0#32
  let c8_i32_472 : BitVec 32 := 8#32
  let c0_i32_471 : BitVec 32 := 0#32
  let c2048_i32_467 : BitVec 32 := 2048#32
  let c0_i32_466 : BitVec 32 := 0#32
  let v358 : BitVec 32 := Scalar.maxsi c0_i32_466 v357
  let v359 : BitVec 32 := Scalar.minsi c2048_i32_467 v358
  let c15_i32_468 : BitVec 32 := 15#32
  let v360 : BitVec 32 := Scalar.addi v359 c15_i32_468
  let c16_i32_469 : BitVec 32 := 16#32
  let v361 : BitVec 32 := Scalar.divsi v360 c16_i32_469
  let c16_i32_460 : BitVec 32 := 16#32
  let c0_i32_461 : BitVec 32 := 0#32
  let v346 : BitVec 1 := Scalar.cmpi .eq c16_i32_460 c0_i32_461
  let c1_i32_462 : BitVec 32 := 1#32
  let v347 : BitVec 32 := Scalar.select v346 c1_i32_462 c16_i32_460
  let v348 : BitVec 32 := Scalar.remsi v328 v347
  let c0_i32_464 : BitVec 32 := 0#32
  let v350 : BitVec 1 := Scalar.cmpi .slt v348 c0_i32_464
  let c0_i32_465 : BitVec 32 := 0#32
  let v351 : BitVec 1 := Scalar.cmpi .slt v347 c0_i32_465
  let v352 : BitVec 1 := Scalar.xori v350 v351
  let c0_i32_463 : BitVec 32 := 0#32
  let v349 : BitVec 1 := Scalar.cmpi .ne v348 c0_i32_463
  let v353 : BitVec 1 := Scalar.andi v352 v349
  let v354 : BitVec 32 := Scalar.addi v348 v347
  let v355 : BitVec 32 := Scalar.select v353 v354 v348
  let c8_i32_470 : BitVec 32 := 8#32
  let v362 : BitVec 32 := Scalar.muli v355 c8_i32_470
  let v363 : BitVec 32 := Scalar.subi v361 v362
  let v364 : BitVec 32 := Scalar.maxsi c0_i32_471 v363
  let v365 : BitVec 32 := Scalar.minsi c8_i32_472 v364
  let v366 : BitVec 32 := Scalar.subi v365 c0_i32_474
  let c1_i32_475 : BitVec 32 := 1#32
  let v368 : BitVec 32 := Scalar.divsi v366 c1_i32_475
  let v369 : BitVec 32 := Scalar.muli v368 c1_i32_475
  let v370 : BitVec 32 := Scalar.addi c0_i32_474 v369
  let v367 : BitVec 32 := Scalar.addi c0_i32_474 v366
  let c1_i32_477 : BitVec 32 := 1#32
  ⟨v370, v367, c1_i32_477⟩
def k0_off2729 (v328 : BitVec 32) (v357 : BitVec 32) (k0_t59 : Fin (k0_t59_loop v328 v357).trips) : Fin 2 → Nat :=
  let c0_i32_454 : BitVec 32 := 0#32
  let v330 : BitVec 1 := Scalar.cmpi .sgt v328 c0_i32_454
  let v331 : BitVec 32 := Scalar.extui v330
  let c0_i32_455 : BitVec 32 := 0#32
  let v332 : BitVec 1 := Scalar.cmpi .slt v328 c0_i32_455
  let v333 : BitVec 32 := Scalar.extui v332
  let v334 : BitVec 32 := Scalar.subi v331 v333
  let c16_i32_453 : BitVec 32 := 16#32
  let c0_i32_456 : BitVec 32 := 0#32
  let v335 : BitVec 1 := Scalar.cmpi .sgt c16_i32_453 c0_i32_456
  let v336 : BitVec 32 := Scalar.extui v335
  let c0_i32_457 : BitVec 32 := 0#32
  let v337 : BitVec 1 := Scalar.cmpi .slt c16_i32_453 c0_i32_457
  let v338 : BitVec 32 := Scalar.extui v337
  let v339 : BitVec 32 := Scalar.subi v336 v338
  let v340 : BitVec 1 := Scalar.cmpi .ne v334 v339
  let v341 : BitVec 32 := Scalar.remsi v328 c16_i32_453
  let c0_i32_458 : BitVec 32 := 0#32
  let v342 : BitVec 1 := Scalar.cmpi .ne v341 c0_i32_458
  let v343 : BitVec 1 := Scalar.andi v340 v342
  let v329 : BitVec 32 := Scalar.divsi v328 c16_i32_453
  let c1_i32_459 : BitVec 32 := 1#32
  let v344 : BitVec 32 := Scalar.subi v329 c1_i32_459
  let v345 : BitVec 32 := Scalar.select v343 v344 v329
  let v373 : Index := Scalar.indexCast v345
  let c16_i32_460 : BitVec 32 := 16#32
  let c0_i32_461 : BitVec 32 := 0#32
  let v346 : BitVec 1 := Scalar.cmpi .eq c16_i32_460 c0_i32_461
  let c1_i32_462 : BitVec 32 := 1#32
  let v347 : BitVec 32 := Scalar.select v346 c1_i32_462 c16_i32_460
  let v348 : BitVec 32 := Scalar.remsi v328 v347
  let c0_i32_464 : BitVec 32 := 0#32
  let v350 : BitVec 1 := Scalar.cmpi .slt v348 c0_i32_464
  let c0_i32_465 : BitVec 32 := 0#32
  let v351 : BitVec 1 := Scalar.cmpi .slt v347 c0_i32_465
  let v352 : BitVec 1 := Scalar.xori v350 v351
  let c0_i32_463 : BitVec 32 := 0#32
  let v349 : BitVec 1 := Scalar.cmpi .ne v348 c0_i32_463
  let v353 : BitVec 1 := Scalar.andi v352 v349
  let v354 : BitVec 32 := Scalar.addi v348 v347
  let v355 : BitVec 32 := Scalar.select v353 v354 v348
  let c8_i32_478 : BitVec 32 := 8#32
  let v371 : BitVec 32 := Scalar.muli v355 c8_i32_478
  let c0_i32_474 : BitVec 32 := 0#32
  let c8_i32_472 : BitVec 32 := 8#32
  let c0_i32_471 : BitVec 32 := 0#32
  let c2048_i32_467 : BitVec 32 := 2048#32
  let c0_i32_466 : BitVec 32 := 0#32
  let v358 : BitVec 32 := Scalar.maxsi c0_i32_466 v357
  let v359 : BitVec 32 := Scalar.minsi c2048_i32_467 v358
  let c15_i32_468 : BitVec 32 := 15#32
  let v360 : BitVec 32 := Scalar.addi v359 c15_i32_468
  let c16_i32_469 : BitVec 32 := 16#32
  let v361 : BitVec 32 := Scalar.divsi v360 c16_i32_469
  let c8_i32_470 : BitVec 32 := 8#32
  let v362 : BitVec 32 := Scalar.muli v355 c8_i32_470
  let v363 : BitVec 32 := Scalar.subi v361 v362
  let v364 : BitVec 32 := Scalar.maxsi c0_i32_471 v363
  let v365 : BitVec 32 := Scalar.minsi c8_i32_472 v364
  let v366 : BitVec 32 := Scalar.subi v365 c0_i32_474
  let c1_i32_475 : BitVec 32 := 1#32
  let v368 : BitVec 32 := Scalar.divsi v366 c1_i32_475
  let v369 : BitVec 32 := Scalar.muli v368 c1_i32_475
  let v370 : BitVec 32 := Scalar.addi c0_i32_474 v369
  let c1_i32_477 : BitVec 32 := 1#32
  let arg19 : BitVec 32 := Scf.iv v370 c1_i32_477 k0_t59
  let v372 : BitVec 32 := Scalar.addi v371 arg19
  let v374 : Index := Scalar.indexCast v372
  ![v373.toNat, v374.toNat]
def k0_off2730 (v1 : BitVec 32) (k0_t51 : Fin (k0_t51_loop v1).trips) : Fin 2 → Nat :=
  let c0_i32_480 : BitVec 32 := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  ![0, v226.toNat]
def k0_off2731 (v1 : BitVec 32) (k0_t51 : Fin (k0_t51_loop v1).trips) (v328 : BitVec 32) (v357 : BitVec 32) (k0_t59 : Fin (k0_t59_loop v328 v357).trips) : Fin 5 → Nat :=
  let c0_i32_479 : BitVec 32 := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let c0_i32_474 : BitVec 32 := 0#32
  let c8_i32_472 : BitVec 32 := 8#32
  let c0_i32_471 : BitVec 32 := 0#32
  let c2048_i32_467 : BitVec 32 := 2048#32
  let c0_i32_466 : BitVec 32 := 0#32
  let v358 : BitVec 32 := Scalar.maxsi c0_i32_466 v357
  let v359 : BitVec 32 := Scalar.minsi c2048_i32_467 v358
  let c15_i32_468 : BitVec 32 := 15#32
  let v360 : BitVec 32 := Scalar.addi v359 c15_i32_468
  let c16_i32_469 : BitVec 32 := 16#32
  let v361 : BitVec 32 := Scalar.divsi v360 c16_i32_469
  let c16_i32_460 : BitVec 32 := 16#32
  let c0_i32_461 : BitVec 32 := 0#32
  let v346 : BitVec 1 := Scalar.cmpi .eq c16_i32_460 c0_i32_461
  let c1_i32_462 : BitVec 32 := 1#32
  let v347 : BitVec 32 := Scalar.select v346 c1_i32_462 c16_i32_460
  let v348 : BitVec 32 := Scalar.remsi v328 v347
  let c0_i32_464 : BitVec 32 := 0#32
  let v350 : BitVec 1 := Scalar.cmpi .slt v348 c0_i32_464
  let c0_i32_465 : BitVec 32 := 0#32
  let v351 : BitVec 1 := Scalar.cmpi .slt v347 c0_i32_465
  let v352 : BitVec 1 := Scalar.xori v350 v351
  let c0_i32_463 : BitVec 32 := 0#32
  let v349 : BitVec 1 := Scalar.cmpi .ne v348 c0_i32_463
  let v353 : BitVec 1 := Scalar.andi v352 v349
  let v354 : BitVec 32 := Scalar.addi v348 v347
  let v355 : BitVec 32 := Scalar.select v353 v354 v348
  let c8_i32_470 : BitVec 32 := 8#32
  let v362 : BitVec 32 := Scalar.muli v355 c8_i32_470
  let v363 : BitVec 32 := Scalar.subi v361 v362
  let v364 : BitVec 32 := Scalar.maxsi c0_i32_471 v363
  let v365 : BitVec 32 := Scalar.minsi c8_i32_472 v364
  let v366 : BitVec 32 := Scalar.subi v365 c0_i32_474
  let c1_i32_475 : BitVec 32 := 1#32
  let v368 : BitVec 32 := Scalar.divsi v366 c1_i32_475
  let v369 : BitVec 32 := Scalar.muli v368 c1_i32_475
  let v370 : BitVec 32 := Scalar.addi c0_i32_474 v369
  let c1_i32_477 : BitVec 32 := 1#32
  let arg19 : BitVec 32 := Scf.iv v370 c1_i32_477 k0_t59
  let c0_i32_481 : BitVec 32 := 0#32
  let c0_i32_482 : BitVec 32 := 0#32
  ![0, v226.toNat, arg19.toNat, 0, 0]
def k0_off2732 (v375 : BitVec 32) : Fin 3 → Nat :=
  let c0_i32_483 : BitVec 32 := 0#32
  let c0_i32_484 : BitVec 32 := 0#32
  ![v375.toNat, 0, 0]

def k0_chk41 (v1 : BitVec 32) (k0_t51 : Fin (k0_t51_loop v1).trips) (v375 : BitVec 32) : Prop :=
  (∀ (k0_h8 : k0_cond8 v1 k0_t51 = 1#1), ∀ a, (k0_off2732 v375) a + S1x1728x128.size a ≤ S1280x1728x128.size a) ∧
  (∀ (k0_h8 : k0_cond8 v1 k0_t51 = 1#1), ∀ (hinb : ∀ a, (k0_off2732 v375) a + S1x1728x128.size a ≤ S1280x1728x128.size a), (Rect.unit (s := S1280x1728x128) (k0_off2732 v375) S1x1728x128.size hinb).WholeWords (EltTy.packing .fp8e4m3))
theorem k0_off2732_inb : ∀ (v1 : BitVec 32) (k0_t51 : Fin (k0_t51_loop v1).trips) (v375 : BitVec 32) (k0_hw41 : k0_chk41 v1 k0_t51 v375), ∀ (k0_h8 : k0_cond8 v1 k0_t51 = 1#1), ∀ a, (k0_off2732 v375) a + S1x1728x128.size a ≤ S1280x1728x128.size a := fun v1 k0_t51 v375 k0_hw41 k0_h8 => k0_hw41.1 k0_h8
theorem k0_off2732_wordsfp8e4m3 : ∀ (v1 : BitVec 32) (k0_t51 : Fin (k0_t51_loop v1).trips) (v375 : BitVec 32) (k0_hw41 : k0_chk41 v1 k0_t51 v375), ∀ (k0_h8 : k0_cond8 v1 k0_t51 = 1#1), (Rect.unit (s := S1280x1728x128) (k0_off2732 v375) S1x1728x128.size (k0_off2732_inb v1 k0_t51 v375 k0_hw41 k0_h8)).WholeWords (EltTy.packing .fp8e4m3) := fun v1 k0_t51 v375 k0_hw41 k0_h8 => k0_hw41.2 k0_h8 (k0_off2732_inb v1 k0_t51 v375 k0_hw41 k0_h8)

def k0_chk39 (v1 : BitVec 32) (k0_t51 : Fin (k0_t51_loop v1).trips) (v328 : BitVec 32) (v357 : BitVec 32) : Prop :=
  (∀ (k0_h8 : k0_cond8 v1 k0_t51 = 1#1), (k0_t58_loop v328 v357).OK) ∧
  (∀ k0_t58 : Fin (k0_t58_loop v328 v357).trips, ∀ (k0_h8 : k0_cond8 v1 k0_t51 = 1#1), ∀ a, (k0_off2725 v328 v357 k0_t58) a + S1x1.size a ≤ S8x128.size a) ∧
  (∀ k0_t58 : Fin (k0_t58_loop v328 v357).trips, ∀ (k0_h8 : k0_cond8 v1 k0_t51 = 1#1), ∀ a, (k0_off2726 v1 k0_t51) a + S1x1.size a ≤ S2x2.size a) ∧
  (∀ k0_t58 : Fin (k0_t58_loop v328 v357).trips, ∀ (k0_h8 : k0_cond8 v1 k0_t51 = 1#1), ∀ a, (k0_off2727 v1 k0_t51 v328 v357 k0_t58) a + S1x1x1x1728x128.size a ≤ S2x2x8x1728x128.size a) ∧
  (∀ k0_t58 : Fin (k0_t58_loop v328 v357).trips, ∀ (k0_h8 : k0_cond8 v1 k0_t51 = 1#1), ∀ (hinb : ∀ a, (k0_off2727 v1 k0_t51 v328 v357 k0_t58) a + S1x1x1x1728x128.size a ≤ S2x2x8x1728x128.size a), (Rect.unit (s := S2x2x8x1728x128) (k0_off2727 v1 k0_t51 v328 v357 k0_t58) S1x1x1x1728x128.size hinb).WholeWords (EltTy.packing .fp8e4m3)) ∧
  (∀ (k0_h8 : k0_cond8 v1 k0_t51 = 1#1), (k0_t59_loop v328 v357).OK) ∧
  (∀ k0_t59 : Fin (k0_t59_loop v328 v357).trips, ∀ (k0_h8 : k0_cond8 v1 k0_t51 = 1#1), ∀ a, (k0_off2729 v328 v357 k0_t59) a + S1x1.size a ≤ S8x128.size a) ∧
  (∀ k0_t59 : Fin (k0_t59_loop v328 v357).trips, ∀ (k0_h8 : k0_cond8 v1 k0_t51 = 1#1), ∀ a, (k0_off2730 v1 k0_t51) a + S1x1.size a ≤ S2x2.size a) ∧
  (∀ k0_t59 : Fin (k0_t59_loop v328 v357).trips, ∀ (k0_h8 : k0_cond8 v1 k0_t51 = 1#1), ∀ a, (k0_off2731 v1 k0_t51 v328 v357 k0_t59) a + S1x1x1x1728x128.size a ≤ S2x2x8x1728x128.size a) ∧
  (∀ k0_t59 : Fin (k0_t59_loop v328 v357).trips, ∀ (k0_h8 : k0_cond8 v1 k0_t51 = 1#1), ∀ (hinb : ∀ a, (k0_off2731 v1 k0_t51 v328 v357 k0_t59) a + S1x1x1x1728x128.size a ≤ S2x2x8x1728x128.size a), (Rect.unit (s := S2x2x8x1728x128) (k0_off2731 v1 k0_t51 v328 v357 k0_t59) S1x1x1x1728x128.size hinb).WholeWords (EltTy.packing .fp8e4m3))
theorem k0_t58_ok : ∀ (v1 : BitVec 32) (k0_t51 : Fin (k0_t51_loop v1).trips) (v328 : BitVec 32) (v357 : BitVec 32) (k0_hw39 : k0_chk39 v1 k0_t51 v328 v357), ∀ (k0_h8 : k0_cond8 v1 k0_t51 = 1#1), (k0_t58_loop v328 v357).OK := fun v1 k0_t51 v328 v357 k0_hw39 k0_h8 => k0_hw39.1 k0_h8
theorem k0_off2725_inb : ∀ (v1 : BitVec 32) (k0_t51 : Fin (k0_t51_loop v1).trips) (v328 : BitVec 32) (v357 : BitVec 32) (k0_hw39 : k0_chk39 v1 k0_t51 v328 v357) (k0_t58 : Fin (k0_t58_loop v328 v357).trips), ∀ (k0_h8 : k0_cond8 v1 k0_t51 = 1#1), ∀ a, (k0_off2725 v328 v357 k0_t58) a + S1x1.size a ≤ S8x128.size a := fun v1 k0_t51 v328 v357 k0_hw39 k0_t58 k0_h8 => k0_hw39.2.1 k0_t58 k0_h8
theorem k0_off2726_inb : ∀ (v1 : BitVec 32) (k0_t51 : Fin (k0_t51_loop v1).trips) (v328 : BitVec 32) (v357 : BitVec 32) (k0_hw39 : k0_chk39 v1 k0_t51 v328 v357) (k0_t58 : Fin (k0_t58_loop v328 v357).trips), ∀ (k0_h8 : k0_cond8 v1 k0_t51 = 1#1), ∀ a, (k0_off2726 v1 k0_t51) a + S1x1.size a ≤ S2x2.size a := fun v1 k0_t51 v328 v357 k0_hw39 k0_t58 k0_h8 => k0_hw39.2.2.1 k0_t58 k0_h8
theorem k0_off2727_inb : ∀ (v1 : BitVec 32) (k0_t51 : Fin (k0_t51_loop v1).trips) (v328 : BitVec 32) (v357 : BitVec 32) (k0_hw39 : k0_chk39 v1 k0_t51 v328 v357) (k0_t58 : Fin (k0_t58_loop v328 v357).trips), ∀ (k0_h8 : k0_cond8 v1 k0_t51 = 1#1), ∀ a, (k0_off2727 v1 k0_t51 v328 v357 k0_t58) a + S1x1x1x1728x128.size a ≤ S2x2x8x1728x128.size a := fun v1 k0_t51 v328 v357 k0_hw39 k0_t58 k0_h8 => k0_hw39.2.2.2.1 k0_t58 k0_h8
theorem k0_off2727_wordsfp8e4m3 : ∀ (v1 : BitVec 32) (k0_t51 : Fin (k0_t51_loop v1).trips) (v328 : BitVec 32) (v357 : BitVec 32) (k0_hw39 : k0_chk39 v1 k0_t51 v328 v357) (k0_t58 : Fin (k0_t58_loop v328 v357).trips), ∀ (k0_h8 : k0_cond8 v1 k0_t51 = 1#1), (Rect.unit (s := S2x2x8x1728x128) (k0_off2727 v1 k0_t51 v328 v357 k0_t58) S1x1x1x1728x128.size (k0_off2727_inb v1 k0_t51 v328 v357 k0_hw39 k0_t58 k0_h8)).WholeWords (EltTy.packing .fp8e4m3) := fun v1 k0_t51 v328 v357 k0_hw39 k0_t58 k0_h8 => k0_hw39.2.2.2.2.1 k0_t58 k0_h8 (k0_off2727_inb v1 k0_t51 v328 v357 k0_hw39 k0_t58 k0_h8)
theorem k0_t59_ok : ∀ (v1 : BitVec 32) (k0_t51 : Fin (k0_t51_loop v1).trips) (v328 : BitVec 32) (v357 : BitVec 32) (k0_hw39 : k0_chk39 v1 k0_t51 v328 v357), ∀ (k0_h8 : k0_cond8 v1 k0_t51 = 1#1), (k0_t59_loop v328 v357).OK := fun v1 k0_t51 v328 v357 k0_hw39 k0_h8 => k0_hw39.2.2.2.2.2.1 k0_h8
theorem k0_off2729_inb : ∀ (v1 : BitVec 32) (k0_t51 : Fin (k0_t51_loop v1).trips) (v328 : BitVec 32) (v357 : BitVec 32) (k0_hw39 : k0_chk39 v1 k0_t51 v328 v357) (k0_t59 : Fin (k0_t59_loop v328 v357).trips), ∀ (k0_h8 : k0_cond8 v1 k0_t51 = 1#1), ∀ a, (k0_off2729 v328 v357 k0_t59) a + S1x1.size a ≤ S8x128.size a := fun v1 k0_t51 v328 v357 k0_hw39 k0_t59 k0_h8 => k0_hw39.2.2.2.2.2.2.1 k0_t59 k0_h8
theorem k0_off2730_inb : ∀ (v1 : BitVec 32) (k0_t51 : Fin (k0_t51_loop v1).trips) (v328 : BitVec 32) (v357 : BitVec 32) (k0_hw39 : k0_chk39 v1 k0_t51 v328 v357) (k0_t59 : Fin (k0_t59_loop v328 v357).trips), ∀ (k0_h8 : k0_cond8 v1 k0_t51 = 1#1), ∀ a, (k0_off2730 v1 k0_t51) a + S1x1.size a ≤ S2x2.size a := fun v1 k0_t51 v328 v357 k0_hw39 k0_t59 k0_h8 => k0_hw39.2.2.2.2.2.2.2.1 k0_t59 k0_h8
theorem k0_off2731_inb : ∀ (v1 : BitVec 32) (k0_t51 : Fin (k0_t51_loop v1).trips) (v328 : BitVec 32) (v357 : BitVec 32) (k0_hw39 : k0_chk39 v1 k0_t51 v328 v357) (k0_t59 : Fin (k0_t59_loop v328 v357).trips), ∀ (k0_h8 : k0_cond8 v1 k0_t51 = 1#1), ∀ a, (k0_off2731 v1 k0_t51 v328 v357 k0_t59) a + S1x1x1x1728x128.size a ≤ S2x2x8x1728x128.size a := fun v1 k0_t51 v328 v357 k0_hw39 k0_t59 k0_h8 => k0_hw39.2.2.2.2.2.2.2.2.1 k0_t59 k0_h8
theorem k0_off2731_wordsfp8e4m3 : ∀ (v1 : BitVec 32) (k0_t51 : Fin (k0_t51_loop v1).trips) (v328 : BitVec 32) (v357 : BitVec 32) (k0_hw39 : k0_chk39 v1 k0_t51 v328 v357) (k0_t59 : Fin (k0_t59_loop v328 v357).trips), ∀ (k0_h8 : k0_cond8 v1 k0_t51 = 1#1), (Rect.unit (s := S2x2x8x1728x128) (k0_off2731 v1 k0_t51 v328 v357 k0_t59) S1x1x1x1728x128.size (k0_off2731_inb v1 k0_t51 v328 v357 k0_hw39 k0_t59 k0_h8)).WholeWords (EltTy.packing .fp8e4m3) := fun v1 k0_t51 v328 v357 k0_hw39 k0_t59 k0_h8 => k0_hw39.2.2.2.2.2.2.2.2.2 k0_t59 k0_h8 (k0_off2731_inb v1 k0_t51 v328 v357 k0_hw39 k0_t59 k0_h8)

def k0_mult22 (v228 : BitVec 32) : BitVec 32 :=
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c128_i32_417 : BitVec 32 := 128#32
  let v288 : BitVec 32 := Scalar.muli v255 c128_i32_417
  v288
def k0_off2733 (v1 : BitVec 32) (k0_t51 : Fin (k0_t51_loop v1).trips) : Fin 2 → Nat :=
  let c0_i32_419 : BitVec 32 := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  ![0, v226.toNat]
def k0_off2734 (v228 : BitVec 32) : Fin 4 → Nat :=
  let c0_i32_381 : BitVec 32 := 0#32
  let v230 : BitVec 1 := Scalar.cmpi .sgt v228 c0_i32_381
  let v231 : BitVec 32 := Scalar.extui v230
  let c0_i32_382 : BitVec 32 := 0#32
  let v232 : BitVec 1 := Scalar.cmpi .slt v228 c0_i32_382
  let v233 : BitVec 32 := Scalar.extui v232
  let v234 : BitVec 32 := Scalar.subi v231 v233
  let c16_i32 : BitVec 32 := 16#32
  let c0_i32_383 : BitVec 32 := 0#32
  let v235 : BitVec 1 := Scalar.cmpi .sgt c16_i32 c0_i32_383
  let v236 : BitVec 32 := Scalar.extui v235
  let c0_i32_384 : BitVec 32 := 0#32
  let v237 : BitVec 1 := Scalar.cmpi .slt c16_i32 c0_i32_384
  let v238 : BitVec 32 := Scalar.extui v237
  let v239 : BitVec 32 := Scalar.subi v236 v238
  let v240 : BitVec 1 := Scalar.cmpi .ne v234 v239
  let v241 : BitVec 32 := Scalar.remsi v228 c16_i32
  let c0_i32_385 : BitVec 32 := 0#32
  let v242 : BitVec 1 := Scalar.cmpi .ne v241 c0_i32_385
  let v243 : BitVec 1 := Scalar.andi v240 v242
  let v229 : BitVec 32 := Scalar.divsi v228 c16_i32
  let c1_i32_386 : BitVec 32 := 1#32
  let v244 : BitVec 32 := Scalar.subi v229 c1_i32_386
  let v245 : BitVec 32 := Scalar.select v243 v244 v229
  let c0_i32_420 : BitVec 32 := 0#32
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c128_i32_417 : BitVec 32 := 128#32
  let v288 : BitVec 32 := Scalar.muli v255 c128_i32_417
  let v289 : BitVec 32 := v288
  let c0_i32_421 : BitVec 32 := 0#32
  ![v245.toNat, 0, v289.toNat, 0]
def k0_off2735 (v1 : BitVec 32) (k0_t51 : Fin (k0_t51_loop v1).trips) : Fin 5 → Nat :=
  let c0_i32_418 : BitVec 32 := 0#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let c0_i32_422 : BitVec 32 := 0#32
  let c0_i32_423 : BitVec 32 := 0#32
  let c0_i32_424 : BitVec 32 := 0#32
  ![0, v226.toNat, 0, 0, 0]
@[reducible] def k0_t60_loop (v228 : BitVec 32) (v257 : BitVec 32) : Scf.Loop 32 :=
  let c0_i32_426 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v296 : BitVec 32 := Scalar.subi v265 c0_i32_426
  let c1_i32_427 : BitVec 32 := 1#32
  let v298 : BitVec 32 := Scalar.divsi v296 c1_i32_427
  let v299 : BitVec 32 := Scalar.muli v298 c1_i32_427
  let v300 : BitVec 32 := Scalar.addi c0_i32_426 v299
  let c1_i32_428 : BitVec 32 := 1#32
  ⟨c0_i32_426, v300, c1_i32_428⟩
def k0_off2736 (v1 : BitVec 32) (k0_t51 : Fin (k0_t51_loop v1).trips) : Fin 2 → Nat :=
  let c1_i32_454 : BitVec 32 := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  ![1, v226.toNat]
def k0_off2737 (v1 : BitVec 32) (k0_t51 : Fin (k0_t51_loop v1).trips) (v228 : BitVec 32) (v257 : BitVec 32) (k0_t60 : Fin (k0_t60_loop v228 v257).trips) : Fin 5 → Nat :=
  let c1_i32_453 : BitVec 32 := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let c0_i32_426 : BitVec 32 := 0#32
  let c1_i32_428 : BitVec 32 := 1#32
  let arg19 : BitVec 32 := Scf.iv c0_i32_426 c1_i32_428 k0_t60
  let c0_i32_455 : BitVec 32 := 0#32
  let c0_i32_456 : BitVec 32 := 0#32
  ![1, v226.toNat, arg19.toNat, 0, 0]
@[reducible] def k0_t61_loop (v228 : BitVec 32) (v257 : BitVec 32) : Scf.Loop 32 :=
  let c0_i32_426 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v296 : BitVec 32 := Scalar.subi v265 c0_i32_426
  let c1_i32_427 : BitVec 32 := 1#32
  let v298 : BitVec 32 := Scalar.divsi v296 c1_i32_427
  let v299 : BitVec 32 := Scalar.muli v298 c1_i32_427
  let v300 : BitVec 32 := Scalar.addi c0_i32_426 v299
  let v297 : BitVec 32 := Scalar.addi c0_i32_426 v296
  let c1_i32_429 : BitVec 32 := 1#32
  ⟨v300, v297, c1_i32_429⟩
def k0_off2738 (v1 : BitVec 32) (k0_t51 : Fin (k0_t51_loop v1).trips) : Fin 2 → Nat :=
  let c1_i32_454 : BitVec 32 := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  ![1, v226.toNat]
def k0_off2739 (v1 : BitVec 32) (k0_t51 : Fin (k0_t51_loop v1).trips) (v228 : BitVec 32) (v257 : BitVec 32) (k0_t61 : Fin (k0_t61_loop v228 v257).trips) : Fin 5 → Nat :=
  let c1_i32_453 : BitVec 32 := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let c0_i32_426 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v296 : BitVec 32 := Scalar.subi v265 c0_i32_426
  let c1_i32_427 : BitVec 32 := 1#32
  let v298 : BitVec 32 := Scalar.divsi v296 c1_i32_427
  let v299 : BitVec 32 := Scalar.muli v298 c1_i32_427
  let v300 : BitVec 32 := Scalar.addi c0_i32_426 v299
  let c1_i32_429 : BitVec 32 := 1#32
  let arg19 : BitVec 32 := Scf.iv v300 c1_i32_429 k0_t61
  let c0_i32_455 : BitVec 32 := 0#32
  let c0_i32_456 : BitVec 32 := 0#32
  ![1, v226.toNat, arg19.toNat, 0, 0]
def k0_mult23 : BitVec 32 :=
  let c0_i32_452 : BitVec 32 := 0#32
  c0_i32_452
def k0_off2740 (v1 : BitVec 32) (k0_t51 : Fin (k0_t51_loop v1).trips) : Fin 2 → Nat :=
  let c1_i32_455 : BitVec 32 := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  ![1, v226.toNat]
def k0_cond9 (v1 : BitVec 32) (k0_t51 : Fin (k0_t51_loop v1).trips) : BitVec 1 :=
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_430 : BitVec 32 := 2#32
  let v301 : BitVec 1 := Scalar.cmpi .sge arg18 c2_i32_430
  let v302 : BitVec 32 := Scalar.extui v301
  let c0_i32_431 : BitVec 32 := 0#32
  let v303 : BitVec 1 := Scalar.cmpi .ne v302 c0_i32_431
  v303

def k0_off2741 (v1 : BitVec 32) (k0_t51 : Fin (k0_t51_loop v1).trips) : Fin 5 → Nat :=
  let c1_i32_453 : BitVec 32 := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let c0_i32_458 : BitVec 32 := 0#32
  let c0_i32_459 : BitVec 32 := 0#32
  let c0_i32_460 : BitVec 32 := 0#32
  ![1, v226.toNat, 0, 0, 0]
@[reducible] def k0_t62_loop (v228 : BitVec 32) (v257 : BitVec 32) : Scf.Loop 32 :=
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_435 : BitVec 32 := 1#32
  ⟨c0_i32_433, v308, c1_i32_435⟩
def k0_off2742 (v228 : BitVec 32) (v257 : BitVec 32) (k0_t62 : Fin (k0_t62_loop v228 v257).trips) : Fin 2 → Nat :=
  let c0_i32_381 : BitVec 32 := 0#32
  let v230 : BitVec 1 := Scalar.cmpi .sgt v228 c0_i32_381
  let v231 : BitVec 32 := Scalar.extui v230
  let c0_i32_382 : BitVec 32 := 0#32
  let v232 : BitVec 1 := Scalar.cmpi .slt v228 c0_i32_382
  let v233 : BitVec 32 := Scalar.extui v232
  let v234 : BitVec 32 := Scalar.subi v231 v233
  let c16_i32 : BitVec 32 := 16#32
  let c0_i32_383 : BitVec 32 := 0#32
  let v235 : BitVec 1 := Scalar.cmpi .sgt c16_i32 c0_i32_383
  let v236 : BitVec 32 := Scalar.extui v235
  let c0_i32_384 : BitVec 32 := 0#32
  let v237 : BitVec 1 := Scalar.cmpi .slt c16_i32 c0_i32_384
  let v238 : BitVec 32 := Scalar.extui v237
  let v239 : BitVec 32 := Scalar.subi v236 v238
  let v240 : BitVec 1 := Scalar.cmpi .ne v234 v239
  let v241 : BitVec 32 := Scalar.remsi v228 c16_i32
  let c0_i32_385 : BitVec 32 := 0#32
  let v242 : BitVec 1 := Scalar.cmpi .ne v241 c0_i32_385
  let v243 : BitVec 1 := Scalar.andi v240 v242
  let v229 : BitVec 32 := Scalar.divsi v228 c16_i32
  let c1_i32_386 : BitVec 32 := 1#32
  let v244 : BitVec 32 := Scalar.subi v229 c1_i32_386
  let v245 : BitVec 32 := Scalar.select v243 v244 v229
  let v328 : Index := Scalar.indexCast v245
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_452 : BitVec 32 := 8#32
  let v326 : BitVec 32 := Scalar.muli v255 c8_i32_452
  let c0_i32_433 : BitVec 32 := 0#32
  let c1_i32_435 : BitVec 32 := 1#32
  let arg19 : BitVec 32 := Scf.iv c0_i32_433 c1_i32_435 k0_t62
  let v327 : BitVec 32 := Scalar.addi v326 arg19
  let v329 : Index := Scalar.indexCast v327
  ![v328.toNat, v329.toNat]
def k0_off2743 (v228 : BitVec 32) : Fin 1 → Nat :=
  let c0_i32_381 : BitVec 32 := 0#32
  let v230 : BitVec 1 := Scalar.cmpi .sgt v228 c0_i32_381
  let v231 : BitVec 32 := Scalar.extui v230
  let c0_i32_382 : BitVec 32 := 0#32
  let v232 : BitVec 1 := Scalar.cmpi .slt v228 c0_i32_382
  let v233 : BitVec 32 := Scalar.extui v232
  let v234 : BitVec 32 := Scalar.subi v231 v233
  let c16_i32 : BitVec 32 := 16#32
  let c0_i32_383 : BitVec 32 := 0#32
  let v235 : BitVec 1 := Scalar.cmpi .sgt c16_i32 c0_i32_383
  let v236 : BitVec 32 := Scalar.extui v235
  let c0_i32_384 : BitVec 32 := 0#32
  let v237 : BitVec 1 := Scalar.cmpi .slt c16_i32 c0_i32_384
  let v238 : BitVec 32 := Scalar.extui v237
  let v239 : BitVec 32 := Scalar.subi v236 v238
  let v240 : BitVec 1 := Scalar.cmpi .ne v234 v239
  let v241 : BitVec 32 := Scalar.remsi v228 c16_i32
  let c0_i32_385 : BitVec 32 := 0#32
  let v242 : BitVec 1 := Scalar.cmpi .ne v241 c0_i32_385
  let v243 : BitVec 1 := Scalar.andi v240 v242
  let v229 : BitVec 32 := Scalar.divsi v228 c16_i32
  let c1_i32_386 : BitVec 32 := 1#32
  let v244 : BitVec 32 := Scalar.subi v229 c1_i32_386
  let v245 : BitVec 32 := Scalar.select v243 v244 v229
  let v359 : Index := Scalar.indexCast v245
  ![v359.toNat]
def k0_mult24 (v228 : BitVec 32) (v257 : BitVec 32) (k0_t62 : Fin (k0_t62_loop v228 v257).trips) : BitVec 32 :=
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  v381
def k0_off2744 (v1 : BitVec 32) (k0_t51 : Fin (k0_t51_loop v1).trips) (v228 : BitVec 32) (v257 : BitVec 32) (k0_t62 : Fin (k0_t62_loop v228 v257).trips) : Fin 5 → Nat :=
  let c1 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v383 : Index := Scalar.indexCast v226
  let c0_i32_433 : BitVec 32 := 0#32
  let c1_i32_435 : BitVec 32 := 1#32
  let arg19 : BitVec 32 := Scf.iv c0_i32_433 c1_i32_435 k0_t62
  let v384 : Index := Scalar.indexCast arg19
  let c0 : Index := 0#32
  let c0_474 : Index := 0#32
  ![1, v383.toNat, v384.toNat, 0, 0]
def k0_off2745 (v330 : BitVec 32) : Fin 5 → Nat :=
  let c1_475 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v388 : Index := Scalar.indexCast v347
  let c0_476 : Index := 0#32
  let c0_477 : Index := 0#32
  let c0_478 : Index := 0#32
  ![1, v388.toNat, 0, 0, 0]

def k0_off2746 (v1 : BitVec 32) (k0_t51 : Fin (k0_t51_loop v1).trips) (v228 : BitVec 32) (v257 : BitVec 32) (k0_t62 : Fin (k0_t62_loop v228 v257).trips) : Fin 5 → Nat :=
  let c1_481 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v405 : Index := Scalar.indexCast v226
  let c0_482 : Index := 0#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v406 : Index := Scalar.indexCast v382
  let c0_483 : Index := 0#32
  ![1, v405.toNat, 0, v406.toNat, 0]
def k0_off2747 (v330 : BitVec 32) : Fin 5 → Nat :=
  let c1_484 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v410 : Index := Scalar.indexCast v347
  let c1_485 : Index := 1#32
  let c0_486 : Index := 0#32
  let c0_487 : Index := 0#32
  ![1, v410.toNat, 1, 0, 0]
def k0_off2748 (v1 : BitVec 32) (k0_t51 : Fin (k0_t51_loop v1).trips) (v228 : BitVec 32) (v257 : BitVec 32) (k0_t62 : Fin (k0_t62_loop v228 v257).trips) : Fin 5 → Nat :=
  let c1_490 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v427 : Index := Scalar.indexCast v226
  let c1_491 : Index := 1#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v428 : Index := Scalar.indexCast v382
  let c0_492 : Index := 0#32
  ![1, v427.toNat, 1, v428.toNat, 0]
def k0_off2749 (v1 : BitVec 32) (k0_t51 : Fin (k0_t51_loop v1).trips) (v228 : BitVec 32) (v257 : BitVec 32) (k0_t62 : Fin (k0_t62_loop v228 v257).trips) : Fin 5 → Nat :=
  let c1_493 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v432 : Index := Scalar.indexCast v226
  let c0_i32_433 : BitVec 32 := 0#32
  let c1_i32_435 : BitVec 32 := 1#32
  let arg19 : BitVec 32 := Scf.iv c0_i32_433 c1_i32_435 k0_t62
  let v433 : Index := Scalar.indexCast arg19
  let c32 : Index := 32#32
  let c0_494 : Index := 0#32
  ![1, v432.toNat, v433.toNat, 32, 0]
def k0_off2750 (v330 : BitVec 32) : Fin 5 → Nat :=
  let c1_495 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v437 : Index := Scalar.indexCast v347
  let c2 : Index := 2#32
  let c0_496 : Index := 0#32
  let c0_497 : Index := 0#32
  ![1, v437.toNat, 2, 0, 0]
def k0_off2751 (v1 : BitVec 32) (k0_t51 : Fin (k0_t51_loop v1).trips) (v228 : BitVec 32) (v257 : BitVec 32) (k0_t62 : Fin (k0_t62_loop v228 v257).trips) : Fin 5 → Nat :=
  let c1_500 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v454 : Index := Scalar.indexCast v226
  let c2_501 : Index := 2#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v455 : Index := Scalar.indexCast v382
  let c0_502 : Index := 0#32
  ![1, v454.toNat, 2, v455.toNat, 0]
def k0_off2752 (v330 : BitVec 32) : Fin 5 → Nat :=
  let c1_503 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v459 : Index := Scalar.indexCast v347
  let c3 : Index := 3#32
  let c0_504 : Index := 0#32
  let c0_505 : Index := 0#32
  ![1, v459.toNat, 3, 0, 0]
def k0_off2753 (v1 : BitVec 32) (k0_t51 : Fin (k0_t51_loop v1).trips) (v228 : BitVec 32) (v257 : BitVec 32) (k0_t62 : Fin (k0_t62_loop v228 v257).trips) : Fin 5 → Nat :=
  let c1_508 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v476 : Index := Scalar.indexCast v226
  let c3_509 : Index := 3#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v477 : Index := Scalar.indexCast v382
  let c0_510 : Index := 0#32
  ![1, v476.toNat, 3, v477.toNat, 0]
def k0_off2754 (v1 : BitVec 32) (k0_t51 : Fin (k0_t51_loop v1).trips) (v228 : BitVec 32) (v257 : BitVec 32) (k0_t62 : Fin (k0_t62_loop v228 v257).trips) : Fin 5 → Nat :=
  let c1_511 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v481 : Index := Scalar.indexCast v226
  let c0_i32_433 : BitVec 32 := 0#32
  let c1_i32_435 : BitVec 32 := 1#32
  let arg19 : BitVec 32 := Scf.iv c0_i32_433 c1_i32_435 k0_t62
  let v482 : Index := Scalar.indexCast arg19
  let c64 : Index := 64#32
  let c0_512 : Index := 0#32
  ![1, v481.toNat, v482.toNat, 64, 0]
def k0_off2755 (v330 : BitVec 32) : Fin 5 → Nat :=
  let c1_513 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v486 : Index := Scalar.indexCast v347
  let c4 : Index := 4#32
  let c0_514 : Index := 0#32
  let c0_515 : Index := 0#32
  ![1, v486.toNat, 4, 0, 0]
def k0_off2756 (v1 : BitVec 32) (k0_t51 : Fin (k0_t51_loop v1).trips) (v228 : BitVec 32) (v257 : BitVec 32) (k0_t62 : Fin (k0_t62_loop v228 v257).trips) : Fin 5 → Nat :=
  let c1_518 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v503 : Index := Scalar.indexCast v226
  let c4_519 : Index := 4#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v504 : Index := Scalar.indexCast v382
  let c0_520 : Index := 0#32
  ![1, v503.toNat, 4, v504.toNat, 0]
def k0_off2757 (v330 : BitVec 32) : Fin 5 → Nat :=
  let c1_521 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v508 : Index := Scalar.indexCast v347
  let c5 : Index := 5#32
  let c0_522 : Index := 0#32
  let c0_523 : Index := 0#32
  ![1, v508.toNat, 5, 0, 0]
def k0_off2758 (v1 : BitVec 32) (k0_t51 : Fin (k0_t51_loop v1).trips) (v228 : BitVec 32) (v257 : BitVec 32) (k0_t62 : Fin (k0_t62_loop v228 v257).trips) : Fin 5 → Nat :=
  let c1_526 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v525 : Index := Scalar.indexCast v226
  let c5_527 : Index := 5#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v526 : Index := Scalar.indexCast v382
  let c0_528 : Index := 0#32
  ![1, v525.toNat, 5, v526.toNat, 0]
def k0_off2759 (v1 : BitVec 32) (k0_t51 : Fin (k0_t51_loop v1).trips) (v228 : BitVec 32) (v257 : BitVec 32) (k0_t62 : Fin (k0_t62_loop v228 v257).trips) : Fin 5 → Nat :=
  let c1_529 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v530 : Index := Scalar.indexCast v226
  let c0_i32_433 : BitVec 32 := 0#32
  let c1_i32_435 : BitVec 32 := 1#32
  let arg19 : BitVec 32 := Scf.iv c0_i32_433 c1_i32_435 k0_t62
  let v531 : Index := Scalar.indexCast arg19
  let c96 : Index := 96#32
  let c0_530 : Index := 0#32
  ![1, v530.toNat, v531.toNat, 96, 0]
def k0_off2760 (v330 : BitVec 32) : Fin 5 → Nat :=
  let c1_531 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v535 : Index := Scalar.indexCast v347
  let c6 : Index := 6#32
  let c0_532 : Index := 0#32
  let c0_533 : Index := 0#32
  ![1, v535.toNat, 6, 0, 0]
def k0_off2761 (v1 : BitVec 32) (k0_t51 : Fin (k0_t51_loop v1).trips) (v228 : BitVec 32) (v257 : BitVec 32) (k0_t62 : Fin (k0_t62_loop v228 v257).trips) : Fin 5 → Nat :=
  let c1_536 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v552 : Index := Scalar.indexCast v226
  let c6_537 : Index := 6#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v553 : Index := Scalar.indexCast v382
  let c0_538 : Index := 0#32
  ![1, v552.toNat, 6, v553.toNat, 0]
def k0_off2762 (v330 : BitVec 32) : Fin 5 → Nat :=
  let c1_539 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v557 : Index := Scalar.indexCast v347
  let c7 : Index := 7#32
  let c0_540 : Index := 0#32
  let c0_541 : Index := 0#32
  ![1, v557.toNat, 7, 0, 0]
def k0_off2763 (v1 : BitVec 32) (k0_t51 : Fin (k0_t51_loop v1).trips) (v228 : BitVec 32) (v257 : BitVec 32) (k0_t62 : Fin (k0_t62_loop v228 v257).trips) : Fin 5 → Nat :=
  let c1_544 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v574 : Index := Scalar.indexCast v226
  let c7_545 : Index := 7#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v575 : Index := Scalar.indexCast v382
  let c0_546 : Index := 0#32
  ![1, v574.toNat, 7, v575.toNat, 0]
def k0_off2764 (v1 : BitVec 32) (k0_t51 : Fin (k0_t51_loop v1).trips) (v228 : BitVec 32) (v257 : BitVec 32) (k0_t62 : Fin (k0_t62_loop v228 v257).trips) : Fin 5 → Nat :=
  let c1_547 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v579 : Index := Scalar.indexCast v226
  let c0_i32_433 : BitVec 32 := 0#32
  let c1_i32_435 : BitVec 32 := 1#32
  let arg19 : BitVec 32 := Scf.iv c0_i32_433 c1_i32_435 k0_t62
  let v580 : Index := Scalar.indexCast arg19
  let c128 : Index := 128#32
  let c0_548 : Index := 0#32
  ![1, v579.toNat, v580.toNat, 128, 0]
def k0_off2765 (v330 : BitVec 32) : Fin 5 → Nat :=
  let c1_549 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v584 : Index := Scalar.indexCast v347
  let c8 : Index := 8#32
  let c0_550 : Index := 0#32
  let c0_551 : Index := 0#32
  ![1, v584.toNat, 8, 0, 0]
def k0_off2766 (v1 : BitVec 32) (k0_t51 : Fin (k0_t51_loop v1).trips) (v228 : BitVec 32) (v257 : BitVec 32) (k0_t62 : Fin (k0_t62_loop v228 v257).trips) : Fin 5 → Nat :=
  let c1_554 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v601 : Index := Scalar.indexCast v226
  let c8_555 : Index := 8#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v602 : Index := Scalar.indexCast v382
  let c0_556 : Index := 0#32
  ![1, v601.toNat, 8, v602.toNat, 0]
def k0_off2767 (v330 : BitVec 32) : Fin 5 → Nat :=
  let c1_557 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v606 : Index := Scalar.indexCast v347
  let c9 : Index := 9#32
  let c0_558 : Index := 0#32
  let c0_559 : Index := 0#32
  ![1, v606.toNat, 9, 0, 0]
def k0_off2768 (v1 : BitVec 32) (k0_t51 : Fin (k0_t51_loop v1).trips) (v228 : BitVec 32) (v257 : BitVec 32) (k0_t62 : Fin (k0_t62_loop v228 v257).trips) : Fin 5 → Nat :=
  let c1_562 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v623 : Index := Scalar.indexCast v226
  let c9_563 : Index := 9#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v624 : Index := Scalar.indexCast v382
  let c0_564 : Index := 0#32
  ![1, v623.toNat, 9, v624.toNat, 0]
def k0_off2769 (v1 : BitVec 32) (k0_t51 : Fin (k0_t51_loop v1).trips) (v228 : BitVec 32) (v257 : BitVec 32) (k0_t62 : Fin (k0_t62_loop v228 v257).trips) : Fin 5 → Nat :=
  let c1_565 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v628 : Index := Scalar.indexCast v226
  let c0_i32_433 : BitVec 32 := 0#32
  let c1_i32_435 : BitVec 32 := 1#32
  let arg19 : BitVec 32 := Scf.iv c0_i32_433 c1_i32_435 k0_t62
  let v629 : Index := Scalar.indexCast arg19
  let c160 : Index := 160#32
  let c0_566 : Index := 0#32
  ![1, v628.toNat, v629.toNat, 160, 0]
def k0_off2770 (v330 : BitVec 32) : Fin 5 → Nat :=
  let c1_567 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v633 : Index := Scalar.indexCast v347
  let c10 : Index := 10#32
  let c0_568 : Index := 0#32
  let c0_569 : Index := 0#32
  ![1, v633.toNat, 10, 0, 0]
def k0_off2771 (v1 : BitVec 32) (k0_t51 : Fin (k0_t51_loop v1).trips) (v228 : BitVec 32) (v257 : BitVec 32) (k0_t62 : Fin (k0_t62_loop v228 v257).trips) : Fin 5 → Nat :=
  let c1_572 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v650 : Index := Scalar.indexCast v226
  let c10_573 : Index := 10#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v651 : Index := Scalar.indexCast v382
  let c0_574 : Index := 0#32
  ![1, v650.toNat, 10, v651.toNat, 0]
def k0_off2772 (v330 : BitVec 32) : Fin 5 → Nat :=
  let c1_575 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v655 : Index := Scalar.indexCast v347
  let c11 : Index := 11#32
  let c0_576 : Index := 0#32
  let c0_577 : Index := 0#32
  ![1, v655.toNat, 11, 0, 0]
def k0_off2773 (v1 : BitVec 32) (k0_t51 : Fin (k0_t51_loop v1).trips) (v228 : BitVec 32) (v257 : BitVec 32) (k0_t62 : Fin (k0_t62_loop v228 v257).trips) : Fin 5 → Nat :=
  let c1_580 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v672 : Index := Scalar.indexCast v226
  let c11_581 : Index := 11#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v673 : Index := Scalar.indexCast v382
  let c0_582 : Index := 0#32
  ![1, v672.toNat, 11, v673.toNat, 0]
def k0_off2774 (v1 : BitVec 32) (k0_t51 : Fin (k0_t51_loop v1).trips) (v228 : BitVec 32) (v257 : BitVec 32) (k0_t62 : Fin (k0_t62_loop v228 v257).trips) : Fin 5 → Nat :=
  let c1_583 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v677 : Index := Scalar.indexCast v226
  let c0_i32_433 : BitVec 32 := 0#32
  let c1_i32_435 : BitVec 32 := 1#32
  let arg19 : BitVec 32 := Scf.iv c0_i32_433 c1_i32_435 k0_t62
  let v678 : Index := Scalar.indexCast arg19
  let c192 : Index := 192#32
  let c0_584 : Index := 0#32
  ![1, v677.toNat, v678.toNat, 192, 0]
def k0_off2775 (v330 : BitVec 32) : Fin 5 → Nat :=
  let c1_585 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v682 : Index := Scalar.indexCast v347
  let c12 : Index := 12#32
  let c0_586 : Index := 0#32
  let c0_587 : Index := 0#32
  ![1, v682.toNat, 12, 0, 0]
def k0_off2776 (v1 : BitVec 32) (k0_t51 : Fin (k0_t51_loop v1).trips) (v228 : BitVec 32) (v257 : BitVec 32) (k0_t62 : Fin (k0_t62_loop v228 v257).trips) : Fin 5 → Nat :=
  let c1_590 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v699 : Index := Scalar.indexCast v226
  let c12_591 : Index := 12#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v700 : Index := Scalar.indexCast v382
  let c0_592 : Index := 0#32
  ![1, v699.toNat, 12, v700.toNat, 0]
def k0_off2777 (v330 : BitVec 32) : Fin 5 → Nat :=
  let c1_593 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v704 : Index := Scalar.indexCast v347
  let c13 : Index := 13#32
  let c0_594 : Index := 0#32
  let c0_595 : Index := 0#32
  ![1, v704.toNat, 13, 0, 0]
def k0_off2778 (v1 : BitVec 32) (k0_t51 : Fin (k0_t51_loop v1).trips) (v228 : BitVec 32) (v257 : BitVec 32) (k0_t62 : Fin (k0_t62_loop v228 v257).trips) : Fin 5 → Nat :=
  let c1_598 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v721 : Index := Scalar.indexCast v226
  let c13_599 : Index := 13#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v722 : Index := Scalar.indexCast v382
  let c0_600 : Index := 0#32
  ![1, v721.toNat, 13, v722.toNat, 0]
def k0_off2779 (v1 : BitVec 32) (k0_t51 : Fin (k0_t51_loop v1).trips) (v228 : BitVec 32) (v257 : BitVec 32) (k0_t62 : Fin (k0_t62_loop v228 v257).trips) : Fin 5 → Nat :=
  let c1_601 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v726 : Index := Scalar.indexCast v226
  let c0_i32_433 : BitVec 32 := 0#32
  let c1_i32_435 : BitVec 32 := 1#32
  let arg19 : BitVec 32 := Scf.iv c0_i32_433 c1_i32_435 k0_t62
  let v727 : Index := Scalar.indexCast arg19
  let c224 : Index := 224#32
  let c0_602 : Index := 0#32
  ![1, v726.toNat, v727.toNat, 224, 0]
def k0_off2780 (v330 : BitVec 32) : Fin 5 → Nat :=
  let c1_603 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v731 : Index := Scalar.indexCast v347
  let c14 : Index := 14#32
  let c0_604 : Index := 0#32
  let c0_605 : Index := 0#32
  ![1, v731.toNat, 14, 0, 0]
def k0_off2781 (v1 : BitVec 32) (k0_t51 : Fin (k0_t51_loop v1).trips) (v228 : BitVec 32) (v257 : BitVec 32) (k0_t62 : Fin (k0_t62_loop v228 v257).trips) : Fin 5 → Nat :=
  let c1_608 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v748 : Index := Scalar.indexCast v226
  let c14_609 : Index := 14#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v749 : Index := Scalar.indexCast v382
  let c0_610 : Index := 0#32
  ![1, v748.toNat, 14, v749.toNat, 0]
def k0_off2782 (v330 : BitVec 32) : Fin 5 → Nat :=
  let c1_611 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v753 : Index := Scalar.indexCast v347
  let c15 : Index := 15#32
  let c0_612 : Index := 0#32
  let c0_613 : Index := 0#32
  ![1, v753.toNat, 15, 0, 0]
def k0_off2783 (v1 : BitVec 32) (k0_t51 : Fin (k0_t51_loop v1).trips) (v228 : BitVec 32) (v257 : BitVec 32) (k0_t62 : Fin (k0_t62_loop v228 v257).trips) : Fin 5 → Nat :=
  let c1_616 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v770 : Index := Scalar.indexCast v226
  let c15_617 : Index := 15#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v771 : Index := Scalar.indexCast v382
  let c0_618 : Index := 0#32
  ![1, v770.toNat, 15, v771.toNat, 0]
def k0_off2784 (v1 : BitVec 32) (k0_t51 : Fin (k0_t51_loop v1).trips) (v228 : BitVec 32) (v257 : BitVec 32) (k0_t62 : Fin (k0_t62_loop v228 v257).trips) : Fin 5 → Nat :=
  let c1_619 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v775 : Index := Scalar.indexCast v226
  let c0_i32_433 : BitVec 32 := 0#32
  let c1_i32_435 : BitVec 32 := 1#32
  let arg19 : BitVec 32 := Scf.iv c0_i32_433 c1_i32_435 k0_t62
  let v776 : Index := Scalar.indexCast arg19
  let c256 : Index := 256#32
  let c0_620 : Index := 0#32
  ![1, v775.toNat, v776.toNat, 256, 0]
def k0_off2785 (v330 : BitVec 32) : Fin 5 → Nat :=
  let c1_621 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v780 : Index := Scalar.indexCast v347
  let c16 : Index := 16#32
  let c0_622 : Index := 0#32
  let c0_623 : Index := 0#32
  ![1, v780.toNat, 16, 0, 0]
def k0_off2786 (v1 : BitVec 32) (k0_t51 : Fin (k0_t51_loop v1).trips) (v228 : BitVec 32) (v257 : BitVec 32) (k0_t62 : Fin (k0_t62_loop v228 v257).trips) : Fin 5 → Nat :=
  let c1_626 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v797 : Index := Scalar.indexCast v226
  let c16_627 : Index := 16#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v798 : Index := Scalar.indexCast v382
  let c0_628 : Index := 0#32
  ![1, v797.toNat, 16, v798.toNat, 0]
def k0_off2787 (v330 : BitVec 32) : Fin 5 → Nat :=
  let c1_629 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v802 : Index := Scalar.indexCast v347
  let c17 : Index := 17#32
  let c0_630 : Index := 0#32
  let c0_631 : Index := 0#32
  ![1, v802.toNat, 17, 0, 0]
def k0_off2788 (v1 : BitVec 32) (k0_t51 : Fin (k0_t51_loop v1).trips) (v228 : BitVec 32) (v257 : BitVec 32) (k0_t62 : Fin (k0_t62_loop v228 v257).trips) : Fin 5 → Nat :=
  let c1_634 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v819 : Index := Scalar.indexCast v226
  let c17_635 : Index := 17#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v820 : Index := Scalar.indexCast v382
  let c0_636 : Index := 0#32
  ![1, v819.toNat, 17, v820.toNat, 0]
def k0_off2789 (v1 : BitVec 32) (k0_t51 : Fin (k0_t51_loop v1).trips) (v228 : BitVec 32) (v257 : BitVec 32) (k0_t62 : Fin (k0_t62_loop v228 v257).trips) : Fin 5 → Nat :=
  let c1_637 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v824 : Index := Scalar.indexCast v226
  let c0_i32_433 : BitVec 32 := 0#32
  let c1_i32_435 : BitVec 32 := 1#32
  let arg19 : BitVec 32 := Scf.iv c0_i32_433 c1_i32_435 k0_t62
  let v825 : Index := Scalar.indexCast arg19
  let c288 : Index := 288#32
  let c0_638 : Index := 0#32
  ![1, v824.toNat, v825.toNat, 288, 0]
def k0_off2790 (v330 : BitVec 32) : Fin 5 → Nat :=
  let c1_639 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v829 : Index := Scalar.indexCast v347
  let c18 : Index := 18#32
  let c0_640 : Index := 0#32
  let c0_641 : Index := 0#32
  ![1, v829.toNat, 18, 0, 0]
def k0_off2791 (v1 : BitVec 32) (k0_t51 : Fin (k0_t51_loop v1).trips) (v228 : BitVec 32) (v257 : BitVec 32) (k0_t62 : Fin (k0_t62_loop v228 v257).trips) : Fin 5 → Nat :=
  let c1_644 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v846 : Index := Scalar.indexCast v226
  let c18_645 : Index := 18#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v847 : Index := Scalar.indexCast v382
  let c0_646 : Index := 0#32
  ![1, v846.toNat, 18, v847.toNat, 0]
def k0_off2792 (v330 : BitVec 32) : Fin 5 → Nat :=
  let c1_647 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v851 : Index := Scalar.indexCast v347
  let c19 : Index := 19#32
  let c0_648 : Index := 0#32
  let c0_649 : Index := 0#32
  ![1, v851.toNat, 19, 0, 0]
def k0_off2793 (v1 : BitVec 32) (k0_t51 : Fin (k0_t51_loop v1).trips) (v228 : BitVec 32) (v257 : BitVec 32) (k0_t62 : Fin (k0_t62_loop v228 v257).trips) : Fin 5 → Nat :=
  let c1_652 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v868 : Index := Scalar.indexCast v226
  let c19_653 : Index := 19#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v869 : Index := Scalar.indexCast v382
  let c0_654 : Index := 0#32
  ![1, v868.toNat, 19, v869.toNat, 0]
def k0_off2794 (v1 : BitVec 32) (k0_t51 : Fin (k0_t51_loop v1).trips) (v228 : BitVec 32) (v257 : BitVec 32) (k0_t62 : Fin (k0_t62_loop v228 v257).trips) : Fin 5 → Nat :=
  let c1_655 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v873 : Index := Scalar.indexCast v226
  let c0_i32_433 : BitVec 32 := 0#32
  let c1_i32_435 : BitVec 32 := 1#32
  let arg19 : BitVec 32 := Scf.iv c0_i32_433 c1_i32_435 k0_t62
  let v874 : Index := Scalar.indexCast arg19
  let c320 : Index := 320#32
  let c0_656 : Index := 0#32
  ![1, v873.toNat, v874.toNat, 320, 0]
def k0_off2795 (v330 : BitVec 32) : Fin 5 → Nat :=
  let c1_657 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v878 : Index := Scalar.indexCast v347
  let c20 : Index := 20#32
  let c0_658 : Index := 0#32
  let c0_659 : Index := 0#32
  ![1, v878.toNat, 20, 0, 0]
def k0_off2796 (v1 : BitVec 32) (k0_t51 : Fin (k0_t51_loop v1).trips) (v228 : BitVec 32) (v257 : BitVec 32) (k0_t62 : Fin (k0_t62_loop v228 v257).trips) : Fin 5 → Nat :=
  let c1_662 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v895 : Index := Scalar.indexCast v226
  let c20_663 : Index := 20#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v896 : Index := Scalar.indexCast v382
  let c0_664 : Index := 0#32
  ![1, v895.toNat, 20, v896.toNat, 0]
def k0_off2797 (v330 : BitVec 32) : Fin 5 → Nat :=
  let c1_665 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v900 : Index := Scalar.indexCast v347
  let c21 : Index := 21#32
  let c0_666 : Index := 0#32
  let c0_667 : Index := 0#32
  ![1, v900.toNat, 21, 0, 0]
def k0_off2798 (v1 : BitVec 32) (k0_t51 : Fin (k0_t51_loop v1).trips) (v228 : BitVec 32) (v257 : BitVec 32) (k0_t62 : Fin (k0_t62_loop v228 v257).trips) : Fin 5 → Nat :=
  let c1_670 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v917 : Index := Scalar.indexCast v226
  let c21_671 : Index := 21#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v918 : Index := Scalar.indexCast v382
  let c0_672 : Index := 0#32
  ![1, v917.toNat, 21, v918.toNat, 0]
def k0_off2799 (v1 : BitVec 32) (k0_t51 : Fin (k0_t51_loop v1).trips) (v228 : BitVec 32) (v257 : BitVec 32) (k0_t62 : Fin (k0_t62_loop v228 v257).trips) : Fin 5 → Nat :=
  let c1_673 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v922 : Index := Scalar.indexCast v226
  let c0_i32_433 : BitVec 32 := 0#32
  let c1_i32_435 : BitVec 32 := 1#32
  let arg19 : BitVec 32 := Scf.iv c0_i32_433 c1_i32_435 k0_t62
  let v923 : Index := Scalar.indexCast arg19
  let c352 : Index := 352#32
  let c0_674 : Index := 0#32
  ![1, v922.toNat, v923.toNat, 352, 0]
def k0_off2800 (v330 : BitVec 32) : Fin 5 → Nat :=
  let c1_675 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v927 : Index := Scalar.indexCast v347
  let c22 : Index := 22#32
  let c0_676 : Index := 0#32
  let c0_677 : Index := 0#32
  ![1, v927.toNat, 22, 0, 0]
def k0_off2801 (v1 : BitVec 32) (k0_t51 : Fin (k0_t51_loop v1).trips) (v228 : BitVec 32) (v257 : BitVec 32) (k0_t62 : Fin (k0_t62_loop v228 v257).trips) : Fin 5 → Nat :=
  let c1_680 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v944 : Index := Scalar.indexCast v226
  let c22_681 : Index := 22#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v945 : Index := Scalar.indexCast v382
  let c0_682 : Index := 0#32
  ![1, v944.toNat, 22, v945.toNat, 0]
def k0_off2802 (v330 : BitVec 32) : Fin 5 → Nat :=
  let c1_683 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v949 : Index := Scalar.indexCast v347
  let c23 : Index := 23#32
  let c0_684 : Index := 0#32
  let c0_685 : Index := 0#32
  ![1, v949.toNat, 23, 0, 0]
def k0_off2803 (v1 : BitVec 32) (k0_t51 : Fin (k0_t51_loop v1).trips) (v228 : BitVec 32) (v257 : BitVec 32) (k0_t62 : Fin (k0_t62_loop v228 v257).trips) : Fin 5 → Nat :=
  let c1_688 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v966 : Index := Scalar.indexCast v226
  let c23_689 : Index := 23#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v967 : Index := Scalar.indexCast v382
  let c0_690 : Index := 0#32
  ![1, v966.toNat, 23, v967.toNat, 0]
def k0_off2804 (v1 : BitVec 32) (k0_t51 : Fin (k0_t51_loop v1).trips) (v228 : BitVec 32) (v257 : BitVec 32) (k0_t62 : Fin (k0_t62_loop v228 v257).trips) : Fin 5 → Nat :=
  let c1_691 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v971 : Index := Scalar.indexCast v226
  let c0_i32_433 : BitVec 32 := 0#32
  let c1_i32_435 : BitVec 32 := 1#32
  let arg19 : BitVec 32 := Scf.iv c0_i32_433 c1_i32_435 k0_t62
  let v972 : Index := Scalar.indexCast arg19
  let c384 : Index := 384#32
  let c0_692 : Index := 0#32
  ![1, v971.toNat, v972.toNat, 384, 0]
def k0_off2805 (v330 : BitVec 32) : Fin 5 → Nat :=
  let c1_693 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v976 : Index := Scalar.indexCast v347
  let c24 : Index := 24#32
  let c0_694 : Index := 0#32
  let c0_695 : Index := 0#32
  ![1, v976.toNat, 24, 0, 0]
def k0_off2806 (v1 : BitVec 32) (k0_t51 : Fin (k0_t51_loop v1).trips) (v228 : BitVec 32) (v257 : BitVec 32) (k0_t62 : Fin (k0_t62_loop v228 v257).trips) : Fin 5 → Nat :=
  let c1_698 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v993 : Index := Scalar.indexCast v226
  let c24_699 : Index := 24#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v994 : Index := Scalar.indexCast v382
  let c0_700 : Index := 0#32
  ![1, v993.toNat, 24, v994.toNat, 0]
def k0_off2807 (v330 : BitVec 32) : Fin 5 → Nat :=
  let c1_701 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v998 : Index := Scalar.indexCast v347
  let c25 : Index := 25#32
  let c0_702 : Index := 0#32
  let c0_703 : Index := 0#32
  ![1, v998.toNat, 25, 0, 0]
def k0_off2808 (v1 : BitVec 32) (k0_t51 : Fin (k0_t51_loop v1).trips) (v228 : BitVec 32) (v257 : BitVec 32) (k0_t62 : Fin (k0_t62_loop v228 v257).trips) : Fin 5 → Nat :=
  let c1_706 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1015 : Index := Scalar.indexCast v226
  let c25_707 : Index := 25#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1016 : Index := Scalar.indexCast v382
  let c0_708 : Index := 0#32
  ![1, v1015.toNat, 25, v1016.toNat, 0]
def k0_off2809 (v1 : BitVec 32) (k0_t51 : Fin (k0_t51_loop v1).trips) (v228 : BitVec 32) (v257 : BitVec 32) (k0_t62 : Fin (k0_t62_loop v228 v257).trips) : Fin 5 → Nat :=
  let c1_709 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1020 : Index := Scalar.indexCast v226
  let c0_i32_433 : BitVec 32 := 0#32
  let c1_i32_435 : BitVec 32 := 1#32
  let arg19 : BitVec 32 := Scf.iv c0_i32_433 c1_i32_435 k0_t62
  let v1021 : Index := Scalar.indexCast arg19
  let c416 : Index := 416#32
  let c0_710 : Index := 0#32
  ![1, v1020.toNat, v1021.toNat, 416, 0]
def k0_off2810 (v330 : BitVec 32) : Fin 5 → Nat :=
  let c1_711 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1025 : Index := Scalar.indexCast v347
  let c26 : Index := 26#32
  let c0_712 : Index := 0#32
  let c0_713 : Index := 0#32
  ![1, v1025.toNat, 26, 0, 0]
def k0_off2811 (v1 : BitVec 32) (k0_t51 : Fin (k0_t51_loop v1).trips) (v228 : BitVec 32) (v257 : BitVec 32) (k0_t62 : Fin (k0_t62_loop v228 v257).trips) : Fin 5 → Nat :=
  let c1_716 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1042 : Index := Scalar.indexCast v226
  let c26_717 : Index := 26#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1043 : Index := Scalar.indexCast v382
  let c0_718 : Index := 0#32
  ![1, v1042.toNat, 26, v1043.toNat, 0]
def k0_off2812 (v330 : BitVec 32) : Fin 5 → Nat :=
  let c1_719 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1047 : Index := Scalar.indexCast v347
  let c27 : Index := 27#32
  let c0_720 : Index := 0#32
  let c0_721 : Index := 0#32
  ![1, v1047.toNat, 27, 0, 0]
def k0_off2813 (v1 : BitVec 32) (k0_t51 : Fin (k0_t51_loop v1).trips) (v228 : BitVec 32) (v257 : BitVec 32) (k0_t62 : Fin (k0_t62_loop v228 v257).trips) : Fin 5 → Nat :=
  let c1_724 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1064 : Index := Scalar.indexCast v226
  let c27_725 : Index := 27#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1065 : Index := Scalar.indexCast v382
  let c0_726 : Index := 0#32
  ![1, v1064.toNat, 27, v1065.toNat, 0]
def k0_off2814 (v1 : BitVec 32) (k0_t51 : Fin (k0_t51_loop v1).trips) (v228 : BitVec 32) (v257 : BitVec 32) (k0_t62 : Fin (k0_t62_loop v228 v257).trips) : Fin 5 → Nat :=
  let c1_727 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1069 : Index := Scalar.indexCast v226
  let c0_i32_433 : BitVec 32 := 0#32
  let c1_i32_435 : BitVec 32 := 1#32
  let arg19 : BitVec 32 := Scf.iv c0_i32_433 c1_i32_435 k0_t62
  let v1070 : Index := Scalar.indexCast arg19
  let c448 : Index := 448#32
  let c0_728 : Index := 0#32
  ![1, v1069.toNat, v1070.toNat, 448, 0]
def k0_off2815 (v330 : BitVec 32) : Fin 5 → Nat :=
  let c1_729 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1074 : Index := Scalar.indexCast v347
  let c28 : Index := 28#32
  let c0_730 : Index := 0#32
  let c0_731 : Index := 0#32
  ![1, v1074.toNat, 28, 0, 0]
def k0_off2816 (v1 : BitVec 32) (k0_t51 : Fin (k0_t51_loop v1).trips) (v228 : BitVec 32) (v257 : BitVec 32) (k0_t62 : Fin (k0_t62_loop v228 v257).trips) : Fin 5 → Nat :=
  let c1_734 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1091 : Index := Scalar.indexCast v226
  let c28_735 : Index := 28#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1092 : Index := Scalar.indexCast v382
  let c0_736 : Index := 0#32
  ![1, v1091.toNat, 28, v1092.toNat, 0]
def k0_off2817 (v330 : BitVec 32) : Fin 5 → Nat :=
  let c1_737 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1096 : Index := Scalar.indexCast v347
  let c29 : Index := 29#32
  let c0_738 : Index := 0#32
  let c0_739 : Index := 0#32
  ![1, v1096.toNat, 29, 0, 0]
def k0_off2818 (v1 : BitVec 32) (k0_t51 : Fin (k0_t51_loop v1).trips) (v228 : BitVec 32) (v257 : BitVec 32) (k0_t62 : Fin (k0_t62_loop v228 v257).trips) : Fin 5 → Nat :=
  let c1_742 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1113 : Index := Scalar.indexCast v226
  let c29_743 : Index := 29#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1114 : Index := Scalar.indexCast v382
  let c0_744 : Index := 0#32
  ![1, v1113.toNat, 29, v1114.toNat, 0]
def k0_off2819 (v1 : BitVec 32) (k0_t51 : Fin (k0_t51_loop v1).trips) (v228 : BitVec 32) (v257 : BitVec 32) (k0_t62 : Fin (k0_t62_loop v228 v257).trips) : Fin 5 → Nat :=
  let c1_745 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1118 : Index := Scalar.indexCast v226
  let c0_i32_433 : BitVec 32 := 0#32
  let c1_i32_435 : BitVec 32 := 1#32
  let arg19 : BitVec 32 := Scf.iv c0_i32_433 c1_i32_435 k0_t62
  let v1119 : Index := Scalar.indexCast arg19
  let c480 : Index := 480#32
  let c0_746 : Index := 0#32
  ![1, v1118.toNat, v1119.toNat, 480, 0]
def k0_off2820 (v330 : BitVec 32) : Fin 5 → Nat :=
  let c1_747 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1123 : Index := Scalar.indexCast v347
  let c30 : Index := 30#32
  let c0_748 : Index := 0#32
  let c0_749 : Index := 0#32
  ![1, v1123.toNat, 30, 0, 0]
def k0_off2821 (v1 : BitVec 32) (k0_t51 : Fin (k0_t51_loop v1).trips) (v228 : BitVec 32) (v257 : BitVec 32) (k0_t62 : Fin (k0_t62_loop v228 v257).trips) : Fin 5 → Nat :=
  let c1_752 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1140 : Index := Scalar.indexCast v226
  let c30_753 : Index := 30#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1141 : Index := Scalar.indexCast v382
  let c0_754 : Index := 0#32
  ![1, v1140.toNat, 30, v1141.toNat, 0]
def k0_off2822 (v330 : BitVec 32) : Fin 5 → Nat :=
  let c1_755 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1145 : Index := Scalar.indexCast v347
  let c31 : Index := 31#32
  let c0_756 : Index := 0#32
  let c0_757 : Index := 0#32
  ![1, v1145.toNat, 31, 0, 0]
def k0_off2823 (v1 : BitVec 32) (k0_t51 : Fin (k0_t51_loop v1).trips) (v228 : BitVec 32) (v257 : BitVec 32) (k0_t62 : Fin (k0_t62_loop v228 v257).trips) : Fin 5 → Nat :=
  let c1_760 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1162 : Index := Scalar.indexCast v226
  let c31_761 : Index := 31#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1163 : Index := Scalar.indexCast v382
  let c0_762 : Index := 0#32
  ![1, v1162.toNat, 31, v1163.toNat, 0]
def k0_off2824 (v1 : BitVec 32) (k0_t51 : Fin (k0_t51_loop v1).trips) (v228 : BitVec 32) (v257 : BitVec 32) (k0_t62 : Fin (k0_t62_loop v228 v257).trips) : Fin 5 → Nat :=
  let c1_763 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1167 : Index := Scalar.indexCast v226
  let c0_i32_433 : BitVec 32 := 0#32
  let c1_i32_435 : BitVec 32 := 1#32
  let arg19 : BitVec 32 := Scf.iv c0_i32_433 c1_i32_435 k0_t62
  let v1168 : Index := Scalar.indexCast arg19
  let c512 : Index := 512#32
  let c0_764 : Index := 0#32
  ![1, v1167.toNat, v1168.toNat, 512, 0]
def k0_off2825 (v330 : BitVec 32) : Fin 5 → Nat :=
  let c1_765 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1172 : Index := Scalar.indexCast v347
  let c32_766 : Index := 32#32
  let c0_767 : Index := 0#32
  let c0_768 : Index := 0#32
  ![1, v1172.toNat, 32, 0, 0]
def k0_off2826 (v1 : BitVec 32) (k0_t51 : Fin (k0_t51_loop v1).trips) (v228 : BitVec 32) (v257 : BitVec 32) (k0_t62 : Fin (k0_t62_loop v228 v257).trips) : Fin 5 → Nat :=
  let c1_771 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1189 : Index := Scalar.indexCast v226
  let c32_772 : Index := 32#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1190 : Index := Scalar.indexCast v382
  let c0_773 : Index := 0#32
  ![1, v1189.toNat, 32, v1190.toNat, 0]
def k0_off2827 (v330 : BitVec 32) : Fin 5 → Nat :=
  let c1_774 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1194 : Index := Scalar.indexCast v347
  let c33 : Index := 33#32
  let c0_775 : Index := 0#32
  let c0_776 : Index := 0#32
  ![1, v1194.toNat, 33, 0, 0]
def k0_off2828 (v1 : BitVec 32) (k0_t51 : Fin (k0_t51_loop v1).trips) (v228 : BitVec 32) (v257 : BitVec 32) (k0_t62 : Fin (k0_t62_loop v228 v257).trips) : Fin 5 → Nat :=
  let c1_779 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1211 : Index := Scalar.indexCast v226
  let c33_780 : Index := 33#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1212 : Index := Scalar.indexCast v382
  let c0_781 : Index := 0#32
  ![1, v1211.toNat, 33, v1212.toNat, 0]
def k0_off2829 (v1 : BitVec 32) (k0_t51 : Fin (k0_t51_loop v1).trips) (v228 : BitVec 32) (v257 : BitVec 32) (k0_t62 : Fin (k0_t62_loop v228 v257).trips) : Fin 5 → Nat :=
  let c1_782 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1216 : Index := Scalar.indexCast v226
  let c0_i32_433 : BitVec 32 := 0#32
  let c1_i32_435 : BitVec 32 := 1#32
  let arg19 : BitVec 32 := Scf.iv c0_i32_433 c1_i32_435 k0_t62
  let v1217 : Index := Scalar.indexCast arg19
  let c544 : Index := 544#32
  let c0_783 : Index := 0#32
  ![1, v1216.toNat, v1217.toNat, 544, 0]
def k0_off2830 (v330 : BitVec 32) : Fin 5 → Nat :=
  let c1_784 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1221 : Index := Scalar.indexCast v347
  let c34 : Index := 34#32
  let c0_785 : Index := 0#32
  let c0_786 : Index := 0#32
  ![1, v1221.toNat, 34, 0, 0]
def k0_off2831 (v1 : BitVec 32) (k0_t51 : Fin (k0_t51_loop v1).trips) (v228 : BitVec 32) (v257 : BitVec 32) (k0_t62 : Fin (k0_t62_loop v228 v257).trips) : Fin 5 → Nat :=
  let c1_789 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1238 : Index := Scalar.indexCast v226
  let c34_790 : Index := 34#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1239 : Index := Scalar.indexCast v382
  let c0_791 : Index := 0#32
  ![1, v1238.toNat, 34, v1239.toNat, 0]
def k0_off2832 (v330 : BitVec 32) : Fin 5 → Nat :=
  let c1_792 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1243 : Index := Scalar.indexCast v347
  let c35 : Index := 35#32
  let c0_793 : Index := 0#32
  let c0_794 : Index := 0#32
  ![1, v1243.toNat, 35, 0, 0]
def k0_off2833 (v1 : BitVec 32) (k0_t51 : Fin (k0_t51_loop v1).trips) (v228 : BitVec 32) (v257 : BitVec 32) (k0_t62 : Fin (k0_t62_loop v228 v257).trips) : Fin 5 → Nat :=
  let c1_797 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1260 : Index := Scalar.indexCast v226
  let c35_798 : Index := 35#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1261 : Index := Scalar.indexCast v382
  let c0_799 : Index := 0#32
  ![1, v1260.toNat, 35, v1261.toNat, 0]
def k0_off2834 (v1 : BitVec 32) (k0_t51 : Fin (k0_t51_loop v1).trips) (v228 : BitVec 32) (v257 : BitVec 32) (k0_t62 : Fin (k0_t62_loop v228 v257).trips) : Fin 5 → Nat :=
  let c1_800 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1265 : Index := Scalar.indexCast v226
  let c0_i32_433 : BitVec 32 := 0#32
  let c1_i32_435 : BitVec 32 := 1#32
  let arg19 : BitVec 32 := Scf.iv c0_i32_433 c1_i32_435 k0_t62
  let v1266 : Index := Scalar.indexCast arg19
  let c576 : Index := 576#32
  let c0_801 : Index := 0#32
  ![1, v1265.toNat, v1266.toNat, 576, 0]
def k0_off2835 (v330 : BitVec 32) : Fin 5 → Nat :=
  let c1_802 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1270 : Index := Scalar.indexCast v347
  let c36 : Index := 36#32
  let c0_803 : Index := 0#32
  let c0_804 : Index := 0#32
  ![1, v1270.toNat, 36, 0, 0]
def k0_off2836 (v1 : BitVec 32) (k0_t51 : Fin (k0_t51_loop v1).trips) (v228 : BitVec 32) (v257 : BitVec 32) (k0_t62 : Fin (k0_t62_loop v228 v257).trips) : Fin 5 → Nat :=
  let c1_807 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1287 : Index := Scalar.indexCast v226
  let c36_808 : Index := 36#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1288 : Index := Scalar.indexCast v382
  let c0_809 : Index := 0#32
  ![1, v1287.toNat, 36, v1288.toNat, 0]
def k0_off2837 (v330 : BitVec 32) : Fin 5 → Nat :=
  let c1_810 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1292 : Index := Scalar.indexCast v347
  let c37 : Index := 37#32
  let c0_811 : Index := 0#32
  let c0_812 : Index := 0#32
  ![1, v1292.toNat, 37, 0, 0]
def k0_off2838 (v1 : BitVec 32) (k0_t51 : Fin (k0_t51_loop v1).trips) (v228 : BitVec 32) (v257 : BitVec 32) (k0_t62 : Fin (k0_t62_loop v228 v257).trips) : Fin 5 → Nat :=
  let c1_815 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1309 : Index := Scalar.indexCast v226
  let c37_816 : Index := 37#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1310 : Index := Scalar.indexCast v382
  let c0_817 : Index := 0#32
  ![1, v1309.toNat, 37, v1310.toNat, 0]
def k0_off2839 (v1 : BitVec 32) (k0_t51 : Fin (k0_t51_loop v1).trips) (v228 : BitVec 32) (v257 : BitVec 32) (k0_t62 : Fin (k0_t62_loop v228 v257).trips) : Fin 5 → Nat :=
  let c1_818 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1314 : Index := Scalar.indexCast v226
  let c0_i32_433 : BitVec 32 := 0#32
  let c1_i32_435 : BitVec 32 := 1#32
  let arg19 : BitVec 32 := Scf.iv c0_i32_433 c1_i32_435 k0_t62
  let v1315 : Index := Scalar.indexCast arg19
  let c608 : Index := 608#32
  let c0_819 : Index := 0#32
  ![1, v1314.toNat, v1315.toNat, 608, 0]
def k0_off2840 (v330 : BitVec 32) : Fin 5 → Nat :=
  let c1_820 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1319 : Index := Scalar.indexCast v347
  let c38 : Index := 38#32
  let c0_821 : Index := 0#32
  let c0_822 : Index := 0#32
  ![1, v1319.toNat, 38, 0, 0]
def k0_off2841 (v1 : BitVec 32) (k0_t51 : Fin (k0_t51_loop v1).trips) (v228 : BitVec 32) (v257 : BitVec 32) (k0_t62 : Fin (k0_t62_loop v228 v257).trips) : Fin 5 → Nat :=
  let c1_825 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1336 : Index := Scalar.indexCast v226
  let c38_826 : Index := 38#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1337 : Index := Scalar.indexCast v382
  let c0_827 : Index := 0#32
  ![1, v1336.toNat, 38, v1337.toNat, 0]
def k0_off2842 (v330 : BitVec 32) : Fin 5 → Nat :=
  let c1_828 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1341 : Index := Scalar.indexCast v347
  let c39 : Index := 39#32
  let c0_829 : Index := 0#32
  let c0_830 : Index := 0#32
  ![1, v1341.toNat, 39, 0, 0]
def k0_off2843 (v1 : BitVec 32) (k0_t51 : Fin (k0_t51_loop v1).trips) (v228 : BitVec 32) (v257 : BitVec 32) (k0_t62 : Fin (k0_t62_loop v228 v257).trips) : Fin 5 → Nat :=
  let c1_833 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1358 : Index := Scalar.indexCast v226
  let c39_834 : Index := 39#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1359 : Index := Scalar.indexCast v382
  let c0_835 : Index := 0#32
  ![1, v1358.toNat, 39, v1359.toNat, 0]
def k0_off2844 (v1 : BitVec 32) (k0_t51 : Fin (k0_t51_loop v1).trips) (v228 : BitVec 32) (v257 : BitVec 32) (k0_t62 : Fin (k0_t62_loop v228 v257).trips) : Fin 5 → Nat :=
  let c1_836 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1363 : Index := Scalar.indexCast v226
  let c0_i32_433 : BitVec 32 := 0#32
  let c1_i32_435 : BitVec 32 := 1#32
  let arg19 : BitVec 32 := Scf.iv c0_i32_433 c1_i32_435 k0_t62
  let v1364 : Index := Scalar.indexCast arg19
  let c640 : Index := 640#32
  let c0_837 : Index := 0#32
  ![1, v1363.toNat, v1364.toNat, 640, 0]
def k0_off2845 (v330 : BitVec 32) : Fin 5 → Nat :=
  let c1_838 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1368 : Index := Scalar.indexCast v347
  let c40 : Index := 40#32
  let c0_839 : Index := 0#32
  let c0_840 : Index := 0#32
  ![1, v1368.toNat, 40, 0, 0]
def k0_off2846 (v1 : BitVec 32) (k0_t51 : Fin (k0_t51_loop v1).trips) (v228 : BitVec 32) (v257 : BitVec 32) (k0_t62 : Fin (k0_t62_loop v228 v257).trips) : Fin 5 → Nat :=
  let c1_843 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1385 : Index := Scalar.indexCast v226
  let c40_844 : Index := 40#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1386 : Index := Scalar.indexCast v382
  let c0_845 : Index := 0#32
  ![1, v1385.toNat, 40, v1386.toNat, 0]
def k0_off2847 (v330 : BitVec 32) : Fin 5 → Nat :=
  let c1_846 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1390 : Index := Scalar.indexCast v347
  let c41 : Index := 41#32
  let c0_847 : Index := 0#32
  let c0_848 : Index := 0#32
  ![1, v1390.toNat, 41, 0, 0]
def k0_off2848 (v1 : BitVec 32) (k0_t51 : Fin (k0_t51_loop v1).trips) (v228 : BitVec 32) (v257 : BitVec 32) (k0_t62 : Fin (k0_t62_loop v228 v257).trips) : Fin 5 → Nat :=
  let c1_851 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1407 : Index := Scalar.indexCast v226
  let c41_852 : Index := 41#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1408 : Index := Scalar.indexCast v382
  let c0_853 : Index := 0#32
  ![1, v1407.toNat, 41, v1408.toNat, 0]
def k0_off2849 (v1 : BitVec 32) (k0_t51 : Fin (k0_t51_loop v1).trips) (v228 : BitVec 32) (v257 : BitVec 32) (k0_t62 : Fin (k0_t62_loop v228 v257).trips) : Fin 5 → Nat :=
  let c1_854 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1412 : Index := Scalar.indexCast v226
  let c0_i32_433 : BitVec 32 := 0#32
  let c1_i32_435 : BitVec 32 := 1#32
  let arg19 : BitVec 32 := Scf.iv c0_i32_433 c1_i32_435 k0_t62
  let v1413 : Index := Scalar.indexCast arg19
  let c672 : Index := 672#32
  let c0_855 : Index := 0#32
  ![1, v1412.toNat, v1413.toNat, 672, 0]
def k0_off2850 (v330 : BitVec 32) : Fin 5 → Nat :=
  let c1_856 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1417 : Index := Scalar.indexCast v347
  let c42 : Index := 42#32
  let c0_857 : Index := 0#32
  let c0_858 : Index := 0#32
  ![1, v1417.toNat, 42, 0, 0]
def k0_off2851 (v1 : BitVec 32) (k0_t51 : Fin (k0_t51_loop v1).trips) (v228 : BitVec 32) (v257 : BitVec 32) (k0_t62 : Fin (k0_t62_loop v228 v257).trips) : Fin 5 → Nat :=
  let c1_861 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1434 : Index := Scalar.indexCast v226
  let c42_862 : Index := 42#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1435 : Index := Scalar.indexCast v382
  let c0_863 : Index := 0#32
  ![1, v1434.toNat, 42, v1435.toNat, 0]
def k0_off2852 (v330 : BitVec 32) : Fin 5 → Nat :=
  let c1_864 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1439 : Index := Scalar.indexCast v347
  let c43 : Index := 43#32
  let c0_865 : Index := 0#32
  let c0_866 : Index := 0#32
  ![1, v1439.toNat, 43, 0, 0]
def k0_off2853 (v1 : BitVec 32) (k0_t51 : Fin (k0_t51_loop v1).trips) (v228 : BitVec 32) (v257 : BitVec 32) (k0_t62 : Fin (k0_t62_loop v228 v257).trips) : Fin 5 → Nat :=
  let c1_869 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1456 : Index := Scalar.indexCast v226
  let c43_870 : Index := 43#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1457 : Index := Scalar.indexCast v382
  let c0_871 : Index := 0#32
  ![1, v1456.toNat, 43, v1457.toNat, 0]
def k0_off2854 (v1 : BitVec 32) (k0_t51 : Fin (k0_t51_loop v1).trips) (v228 : BitVec 32) (v257 : BitVec 32) (k0_t62 : Fin (k0_t62_loop v228 v257).trips) : Fin 5 → Nat :=
  let c1_872 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1461 : Index := Scalar.indexCast v226
  let c0_i32_433 : BitVec 32 := 0#32
  let c1_i32_435 : BitVec 32 := 1#32
  let arg19 : BitVec 32 := Scf.iv c0_i32_433 c1_i32_435 k0_t62
  let v1462 : Index := Scalar.indexCast arg19
  let c704 : Index := 704#32
  let c0_873 : Index := 0#32
  ![1, v1461.toNat, v1462.toNat, 704, 0]
def k0_off2855 (v330 : BitVec 32) : Fin 5 → Nat :=
  let c1_874 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1466 : Index := Scalar.indexCast v347
  let c44 : Index := 44#32
  let c0_875 : Index := 0#32
  let c0_876 : Index := 0#32
  ![1, v1466.toNat, 44, 0, 0]
def k0_off2856 (v1 : BitVec 32) (k0_t51 : Fin (k0_t51_loop v1).trips) (v228 : BitVec 32) (v257 : BitVec 32) (k0_t62 : Fin (k0_t62_loop v228 v257).trips) : Fin 5 → Nat :=
  let c1_879 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1483 : Index := Scalar.indexCast v226
  let c44_880 : Index := 44#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1484 : Index := Scalar.indexCast v382
  let c0_881 : Index := 0#32
  ![1, v1483.toNat, 44, v1484.toNat, 0]
def k0_off2857 (v330 : BitVec 32) : Fin 5 → Nat :=
  let c1_882 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1488 : Index := Scalar.indexCast v347
  let c45 : Index := 45#32
  let c0_883 : Index := 0#32
  let c0_884 : Index := 0#32
  ![1, v1488.toNat, 45, 0, 0]
def k0_off2858 (v1 : BitVec 32) (k0_t51 : Fin (k0_t51_loop v1).trips) (v228 : BitVec 32) (v257 : BitVec 32) (k0_t62 : Fin (k0_t62_loop v228 v257).trips) : Fin 5 → Nat :=
  let c1_887 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1505 : Index := Scalar.indexCast v226
  let c45_888 : Index := 45#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1506 : Index := Scalar.indexCast v382
  let c0_889 : Index := 0#32
  ![1, v1505.toNat, 45, v1506.toNat, 0]
def k0_off2859 (v1 : BitVec 32) (k0_t51 : Fin (k0_t51_loop v1).trips) (v228 : BitVec 32) (v257 : BitVec 32) (k0_t62 : Fin (k0_t62_loop v228 v257).trips) : Fin 5 → Nat :=
  let c1_890 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1510 : Index := Scalar.indexCast v226
  let c0_i32_433 : BitVec 32 := 0#32
  let c1_i32_435 : BitVec 32 := 1#32
  let arg19 : BitVec 32 := Scf.iv c0_i32_433 c1_i32_435 k0_t62
  let v1511 : Index := Scalar.indexCast arg19
  let c736 : Index := 736#32
  let c0_891 : Index := 0#32
  ![1, v1510.toNat, v1511.toNat, 736, 0]
def k0_off2860 (v330 : BitVec 32) : Fin 5 → Nat :=
  let c1_892 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1515 : Index := Scalar.indexCast v347
  let c46 : Index := 46#32
  let c0_893 : Index := 0#32
  let c0_894 : Index := 0#32
  ![1, v1515.toNat, 46, 0, 0]
def k0_off2861 (v1 : BitVec 32) (k0_t51 : Fin (k0_t51_loop v1).trips) (v228 : BitVec 32) (v257 : BitVec 32) (k0_t62 : Fin (k0_t62_loop v228 v257).trips) : Fin 5 → Nat :=
  let c1_897 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1532 : Index := Scalar.indexCast v226
  let c46_898 : Index := 46#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1533 : Index := Scalar.indexCast v382
  let c0_899 : Index := 0#32
  ![1, v1532.toNat, 46, v1533.toNat, 0]
def k0_off2862 (v330 : BitVec 32) : Fin 5 → Nat :=
  let c1_900 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1537 : Index := Scalar.indexCast v347
  let c47 : Index := 47#32
  let c0_901 : Index := 0#32
  let c0_902 : Index := 0#32
  ![1, v1537.toNat, 47, 0, 0]
def k0_off2863 (v1 : BitVec 32) (k0_t51 : Fin (k0_t51_loop v1).trips) (v228 : BitVec 32) (v257 : BitVec 32) (k0_t62 : Fin (k0_t62_loop v228 v257).trips) : Fin 5 → Nat :=
  let c1_905 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1554 : Index := Scalar.indexCast v226
  let c47_906 : Index := 47#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1555 : Index := Scalar.indexCast v382
  let c0_907 : Index := 0#32
  ![1, v1554.toNat, 47, v1555.toNat, 0]
def k0_off2864 (v1 : BitVec 32) (k0_t51 : Fin (k0_t51_loop v1).trips) (v228 : BitVec 32) (v257 : BitVec 32) (k0_t62 : Fin (k0_t62_loop v228 v257).trips) : Fin 5 → Nat :=
  let c1_908 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1559 : Index := Scalar.indexCast v226
  let c0_i32_433 : BitVec 32 := 0#32
  let c1_i32_435 : BitVec 32 := 1#32
  let arg19 : BitVec 32 := Scf.iv c0_i32_433 c1_i32_435 k0_t62
  let v1560 : Index := Scalar.indexCast arg19
  let c768 : Index := 768#32
  let c0_909 : Index := 0#32
  ![1, v1559.toNat, v1560.toNat, 768, 0]
def k0_off2865 (v330 : BitVec 32) : Fin 5 → Nat :=
  let c1_910 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1564 : Index := Scalar.indexCast v347
  let c48 : Index := 48#32
  let c0_911 : Index := 0#32
  let c0_912 : Index := 0#32
  ![1, v1564.toNat, 48, 0, 0]
def k0_off2866 (v1 : BitVec 32) (k0_t51 : Fin (k0_t51_loop v1).trips) (v228 : BitVec 32) (v257 : BitVec 32) (k0_t62 : Fin (k0_t62_loop v228 v257).trips) : Fin 5 → Nat :=
  let c1_915 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1581 : Index := Scalar.indexCast v226
  let c48_916 : Index := 48#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1582 : Index := Scalar.indexCast v382
  let c0_917 : Index := 0#32
  ![1, v1581.toNat, 48, v1582.toNat, 0]
def k0_off2867 (v330 : BitVec 32) : Fin 5 → Nat :=
  let c1_918 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1586 : Index := Scalar.indexCast v347
  let c49 : Index := 49#32
  let c0_919 : Index := 0#32
  let c0_920 : Index := 0#32
  ![1, v1586.toNat, 49, 0, 0]
def k0_off2868 (v1 : BitVec 32) (k0_t51 : Fin (k0_t51_loop v1).trips) (v228 : BitVec 32) (v257 : BitVec 32) (k0_t62 : Fin (k0_t62_loop v228 v257).trips) : Fin 5 → Nat :=
  let c1_923 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1603 : Index := Scalar.indexCast v226
  let c49_924 : Index := 49#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1604 : Index := Scalar.indexCast v382
  let c0_925 : Index := 0#32
  ![1, v1603.toNat, 49, v1604.toNat, 0]
def k0_off2869 (v1 : BitVec 32) (k0_t51 : Fin (k0_t51_loop v1).trips) (v228 : BitVec 32) (v257 : BitVec 32) (k0_t62 : Fin (k0_t62_loop v228 v257).trips) : Fin 5 → Nat :=
  let c1_926 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1608 : Index := Scalar.indexCast v226
  let c0_i32_433 : BitVec 32 := 0#32
  let c1_i32_435 : BitVec 32 := 1#32
  let arg19 : BitVec 32 := Scf.iv c0_i32_433 c1_i32_435 k0_t62
  let v1609 : Index := Scalar.indexCast arg19
  let c800 : Index := 800#32
  let c0_927 : Index := 0#32
  ![1, v1608.toNat, v1609.toNat, 800, 0]
def k0_off2870 (v330 : BitVec 32) : Fin 5 → Nat :=
  let c1_928 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1613 : Index := Scalar.indexCast v347
  let c50 : Index := 50#32
  let c0_929 : Index := 0#32
  let c0_930 : Index := 0#32
  ![1, v1613.toNat, 50, 0, 0]
def k0_off2871 (v1 : BitVec 32) (k0_t51 : Fin (k0_t51_loop v1).trips) (v228 : BitVec 32) (v257 : BitVec 32) (k0_t62 : Fin (k0_t62_loop v228 v257).trips) : Fin 5 → Nat :=
  let c1_933 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1630 : Index := Scalar.indexCast v226
  let c50_934 : Index := 50#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1631 : Index := Scalar.indexCast v382
  let c0_935 : Index := 0#32
  ![1, v1630.toNat, 50, v1631.toNat, 0]
def k0_off2872 (v330 : BitVec 32) : Fin 5 → Nat :=
  let c1_936 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1635 : Index := Scalar.indexCast v347
  let c51 : Index := 51#32
  let c0_937 : Index := 0#32
  let c0_938 : Index := 0#32
  ![1, v1635.toNat, 51, 0, 0]
def k0_off2873 (v1 : BitVec 32) (k0_t51 : Fin (k0_t51_loop v1).trips) (v228 : BitVec 32) (v257 : BitVec 32) (k0_t62 : Fin (k0_t62_loop v228 v257).trips) : Fin 5 → Nat :=
  let c1_941 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1652 : Index := Scalar.indexCast v226
  let c51_942 : Index := 51#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1653 : Index := Scalar.indexCast v382
  let c0_943 : Index := 0#32
  ![1, v1652.toNat, 51, v1653.toNat, 0]
def k0_off2874 (v1 : BitVec 32) (k0_t51 : Fin (k0_t51_loop v1).trips) (v228 : BitVec 32) (v257 : BitVec 32) (k0_t62 : Fin (k0_t62_loop v228 v257).trips) : Fin 5 → Nat :=
  let c1_944 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1657 : Index := Scalar.indexCast v226
  let c0_i32_433 : BitVec 32 := 0#32
  let c1_i32_435 : BitVec 32 := 1#32
  let arg19 : BitVec 32 := Scf.iv c0_i32_433 c1_i32_435 k0_t62
  let v1658 : Index := Scalar.indexCast arg19
  let c832 : Index := 832#32
  let c0_945 : Index := 0#32
  ![1, v1657.toNat, v1658.toNat, 832, 0]
def k0_off2875 (v330 : BitVec 32) : Fin 5 → Nat :=
  let c1_946 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1662 : Index := Scalar.indexCast v347
  let c52 : Index := 52#32
  let c0_947 : Index := 0#32
  let c0_948 : Index := 0#32
  ![1, v1662.toNat, 52, 0, 0]
def k0_off2876 (v1 : BitVec 32) (k0_t51 : Fin (k0_t51_loop v1).trips) (v228 : BitVec 32) (v257 : BitVec 32) (k0_t62 : Fin (k0_t62_loop v228 v257).trips) : Fin 5 → Nat :=
  let c1_951 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1679 : Index := Scalar.indexCast v226
  let c52_952 : Index := 52#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1680 : Index := Scalar.indexCast v382
  let c0_953 : Index := 0#32
  ![1, v1679.toNat, 52, v1680.toNat, 0]
def k0_off2877 (v330 : BitVec 32) : Fin 5 → Nat :=
  let c1_954 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1684 : Index := Scalar.indexCast v347
  let c53 : Index := 53#32
  let c0_955 : Index := 0#32
  let c0_956 : Index := 0#32
  ![1, v1684.toNat, 53, 0, 0]
def k0_off2878 (v1 : BitVec 32) (k0_t51 : Fin (k0_t51_loop v1).trips) (v228 : BitVec 32) (v257 : BitVec 32) (k0_t62 : Fin (k0_t62_loop v228 v257).trips) : Fin 5 → Nat :=
  let c1_959 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1701 : Index := Scalar.indexCast v226
  let c53_960 : Index := 53#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1702 : Index := Scalar.indexCast v382
  let c0_961 : Index := 0#32
  ![1, v1701.toNat, 53, v1702.toNat, 0]
def k0_off2879 (v1 : BitVec 32) (k0_t51 : Fin (k0_t51_loop v1).trips) (v228 : BitVec 32) (v257 : BitVec 32) (k0_t62 : Fin (k0_t62_loop v228 v257).trips) : Fin 5 → Nat :=
  let c1_962 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1706 : Index := Scalar.indexCast v226
  let c0_i32_433 : BitVec 32 := 0#32
  let c1_i32_435 : BitVec 32 := 1#32
  let arg19 : BitVec 32 := Scf.iv c0_i32_433 c1_i32_435 k0_t62
  let v1707 : Index := Scalar.indexCast arg19
  let c864 : Index := 864#32
  let c0_963 : Index := 0#32
  ![1, v1706.toNat, v1707.toNat, 864, 0]
def k0_off2880 (v330 : BitVec 32) : Fin 5 → Nat :=
  let c1_964 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1711 : Index := Scalar.indexCast v347
  let c54 : Index := 54#32
  let c0_965 : Index := 0#32
  let c0_966 : Index := 0#32
  ![1, v1711.toNat, 54, 0, 0]
def k0_off2881 (v1 : BitVec 32) (k0_t51 : Fin (k0_t51_loop v1).trips) (v228 : BitVec 32) (v257 : BitVec 32) (k0_t62 : Fin (k0_t62_loop v228 v257).trips) : Fin 5 → Nat :=
  let c1_969 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1728 : Index := Scalar.indexCast v226
  let c54_970 : Index := 54#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1729 : Index := Scalar.indexCast v382
  let c0_971 : Index := 0#32
  ![1, v1728.toNat, 54, v1729.toNat, 0]
def k0_off2882 (v330 : BitVec 32) : Fin 5 → Nat :=
  let c1_972 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1733 : Index := Scalar.indexCast v347
  let c55 : Index := 55#32
  let c0_973 : Index := 0#32
  let c0_974 : Index := 0#32
  ![1, v1733.toNat, 55, 0, 0]
def k0_off2883 (v1 : BitVec 32) (k0_t51 : Fin (k0_t51_loop v1).trips) (v228 : BitVec 32) (v257 : BitVec 32) (k0_t62 : Fin (k0_t62_loop v228 v257).trips) : Fin 5 → Nat :=
  let c1_977 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1750 : Index := Scalar.indexCast v226
  let c55_978 : Index := 55#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1751 : Index := Scalar.indexCast v382
  let c0_979 : Index := 0#32
  ![1, v1750.toNat, 55, v1751.toNat, 0]
def k0_off2884 (v1 : BitVec 32) (k0_t51 : Fin (k0_t51_loop v1).trips) (v228 : BitVec 32) (v257 : BitVec 32) (k0_t62 : Fin (k0_t62_loop v228 v257).trips) : Fin 5 → Nat :=
  let c1_980 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1755 : Index := Scalar.indexCast v226
  let c0_i32_433 : BitVec 32 := 0#32
  let c1_i32_435 : BitVec 32 := 1#32
  let arg19 : BitVec 32 := Scf.iv c0_i32_433 c1_i32_435 k0_t62
  let v1756 : Index := Scalar.indexCast arg19
  let c896 : Index := 896#32
  let c0_981 : Index := 0#32
  ![1, v1755.toNat, v1756.toNat, 896, 0]
def k0_off2885 (v330 : BitVec 32) : Fin 5 → Nat :=
  let c1_982 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1760 : Index := Scalar.indexCast v347
  let c56 : Index := 56#32
  let c0_983 : Index := 0#32
  let c0_984 : Index := 0#32
  ![1, v1760.toNat, 56, 0, 0]
def k0_off2886 (v1 : BitVec 32) (k0_t51 : Fin (k0_t51_loop v1).trips) (v228 : BitVec 32) (v257 : BitVec 32) (k0_t62 : Fin (k0_t62_loop v228 v257).trips) : Fin 5 → Nat :=
  let c1_987 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1777 : Index := Scalar.indexCast v226
  let c56_988 : Index := 56#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1778 : Index := Scalar.indexCast v382
  let c0_989 : Index := 0#32
  ![1, v1777.toNat, 56, v1778.toNat, 0]
def k0_off2887 (v330 : BitVec 32) : Fin 5 → Nat :=
  let c1_990 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1782 : Index := Scalar.indexCast v347
  let c57 : Index := 57#32
  let c0_991 : Index := 0#32
  let c0_992 : Index := 0#32
  ![1, v1782.toNat, 57, 0, 0]
def k0_off2888 (v1 : BitVec 32) (k0_t51 : Fin (k0_t51_loop v1).trips) (v228 : BitVec 32) (v257 : BitVec 32) (k0_t62 : Fin (k0_t62_loop v228 v257).trips) : Fin 5 → Nat :=
  let c1_995 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1799 : Index := Scalar.indexCast v226
  let c57_996 : Index := 57#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1800 : Index := Scalar.indexCast v382
  let c0_997 : Index := 0#32
  ![1, v1799.toNat, 57, v1800.toNat, 0]
def k0_off2889 (v1 : BitVec 32) (k0_t51 : Fin (k0_t51_loop v1).trips) (v228 : BitVec 32) (v257 : BitVec 32) (k0_t62 : Fin (k0_t62_loop v228 v257).trips) : Fin 5 → Nat :=
  let c1_998 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1804 : Index := Scalar.indexCast v226
  let c0_i32_433 : BitVec 32 := 0#32
  let c1_i32_435 : BitVec 32 := 1#32
  let arg19 : BitVec 32 := Scf.iv c0_i32_433 c1_i32_435 k0_t62
  let v1805 : Index := Scalar.indexCast arg19
  let c928 : Index := 928#32
  let c0_999 : Index := 0#32
  ![1, v1804.toNat, v1805.toNat, 928, 0]
def k0_off2890 (v330 : BitVec 32) : Fin 5 → Nat :=
  let c1_1000 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1809 : Index := Scalar.indexCast v347
  let c58 : Index := 58#32
  let c0_1001 : Index := 0#32
  let c0_1002 : Index := 0#32
  ![1, v1809.toNat, 58, 0, 0]
def k0_off2891 (v1 : BitVec 32) (k0_t51 : Fin (k0_t51_loop v1).trips) (v228 : BitVec 32) (v257 : BitVec 32) (k0_t62 : Fin (k0_t62_loop v228 v257).trips) : Fin 5 → Nat :=
  let c1_1005 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1826 : Index := Scalar.indexCast v226
  let c58_1006 : Index := 58#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1827 : Index := Scalar.indexCast v382
  let c0_1007 : Index := 0#32
  ![1, v1826.toNat, 58, v1827.toNat, 0]
def k0_off2892 (v330 : BitVec 32) : Fin 5 → Nat :=
  let c1_1008 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1831 : Index := Scalar.indexCast v347
  let c59 : Index := 59#32
  let c0_1009 : Index := 0#32
  let c0_1010 : Index := 0#32
  ![1, v1831.toNat, 59, 0, 0]
def k0_off2893 (v1 : BitVec 32) (k0_t51 : Fin (k0_t51_loop v1).trips) (v228 : BitVec 32) (v257 : BitVec 32) (k0_t62 : Fin (k0_t62_loop v228 v257).trips) : Fin 5 → Nat :=
  let c1_1013 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1848 : Index := Scalar.indexCast v226
  let c59_1014 : Index := 59#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1849 : Index := Scalar.indexCast v382
  let c0_1015 : Index := 0#32
  ![1, v1848.toNat, 59, v1849.toNat, 0]
def k0_off2894 (v1 : BitVec 32) (k0_t51 : Fin (k0_t51_loop v1).trips) (v228 : BitVec 32) (v257 : BitVec 32) (k0_t62 : Fin (k0_t62_loop v228 v257).trips) : Fin 5 → Nat :=
  let c1_1016 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1853 : Index := Scalar.indexCast v226
  let c0_i32_433 : BitVec 32 := 0#32
  let c1_i32_435 : BitVec 32 := 1#32
  let arg19 : BitVec 32 := Scf.iv c0_i32_433 c1_i32_435 k0_t62
  let v1854 : Index := Scalar.indexCast arg19
  let c960 : Index := 960#32
  let c0_1017 : Index := 0#32
  ![1, v1853.toNat, v1854.toNat, 960, 0]
def k0_off2895 (v330 : BitVec 32) : Fin 5 → Nat :=
  let c1_1018 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1858 : Index := Scalar.indexCast v347
  let c60 : Index := 60#32
  let c0_1019 : Index := 0#32
  let c0_1020 : Index := 0#32
  ![1, v1858.toNat, 60, 0, 0]
def k0_off2896 (v1 : BitVec 32) (k0_t51 : Fin (k0_t51_loop v1).trips) (v228 : BitVec 32) (v257 : BitVec 32) (k0_t62 : Fin (k0_t62_loop v228 v257).trips) : Fin 5 → Nat :=
  let c1_1023 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1875 : Index := Scalar.indexCast v226
  let c60_1024 : Index := 60#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1876 : Index := Scalar.indexCast v382
  let c0_1025 : Index := 0#32
  ![1, v1875.toNat, 60, v1876.toNat, 0]
def k0_off2897 (v330 : BitVec 32) : Fin 5 → Nat :=
  let c1_1026 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1880 : Index := Scalar.indexCast v347
  let c61 : Index := 61#32
  let c0_1027 : Index := 0#32
  let c0_1028 : Index := 0#32
  ![1, v1880.toNat, 61, 0, 0]
def k0_off2898 (v1 : BitVec 32) (k0_t51 : Fin (k0_t51_loop v1).trips) (v228 : BitVec 32) (v257 : BitVec 32) (k0_t62 : Fin (k0_t62_loop v228 v257).trips) : Fin 5 → Nat :=
  let c1_1031 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1897 : Index := Scalar.indexCast v226
  let c61_1032 : Index := 61#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1898 : Index := Scalar.indexCast v382
  let c0_1033 : Index := 0#32
  ![1, v1897.toNat, 61, v1898.toNat, 0]
def k0_off2899 (v1 : BitVec 32) (k0_t51 : Fin (k0_t51_loop v1).trips) (v228 : BitVec 32) (v257 : BitVec 32) (k0_t62 : Fin (k0_t62_loop v228 v257).trips) : Fin 5 → Nat :=
  let c1_1034 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1902 : Index := Scalar.indexCast v226
  let c0_i32_433 : BitVec 32 := 0#32
  let c1_i32_435 : BitVec 32 := 1#32
  let arg19 : BitVec 32 := Scf.iv c0_i32_433 c1_i32_435 k0_t62
  let v1903 : Index := Scalar.indexCast arg19
  let c992 : Index := 992#32
  let c0_1035 : Index := 0#32
  ![1, v1902.toNat, v1903.toNat, 992, 0]
def k0_off2900 (v330 : BitVec 32) : Fin 5 → Nat :=
  let c1_1036 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1907 : Index := Scalar.indexCast v347
  let c62 : Index := 62#32
  let c0_1037 : Index := 0#32
  let c0_1038 : Index := 0#32
  ![1, v1907.toNat, 62, 0, 0]
def k0_off2901 (v1 : BitVec 32) (k0_t51 : Fin (k0_t51_loop v1).trips) (v228 : BitVec 32) (v257 : BitVec 32) (k0_t62 : Fin (k0_t62_loop v228 v257).trips) : Fin 5 → Nat :=
  let c1_1041 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1924 : Index := Scalar.indexCast v226
  let c62_1042 : Index := 62#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1925 : Index := Scalar.indexCast v382
  let c0_1043 : Index := 0#32
  ![1, v1924.toNat, 62, v1925.toNat, 0]
def k0_off2902 (v330 : BitVec 32) : Fin 5 → Nat :=
  let c1_1044 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1929 : Index := Scalar.indexCast v347
  let c63 : Index := 63#32
  let c0_1045 : Index := 0#32
  let c0_1046 : Index := 0#32
  ![1, v1929.toNat, 63, 0, 0]
def k0_off2903 (v1 : BitVec 32) (k0_t51 : Fin (k0_t51_loop v1).trips) (v228 : BitVec 32) (v257 : BitVec 32) (k0_t62 : Fin (k0_t62_loop v228 v257).trips) : Fin 5 → Nat :=
  let c1_1049 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1946 : Index := Scalar.indexCast v226
  let c63_1050 : Index := 63#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1947 : Index := Scalar.indexCast v382
  let c0_1051 : Index := 0#32
  ![1, v1946.toNat, 63, v1947.toNat, 0]
def k0_off2904 (v1 : BitVec 32) (k0_t51 : Fin (k0_t51_loop v1).trips) (v228 : BitVec 32) (v257 : BitVec 32) (k0_t62 : Fin (k0_t62_loop v228 v257).trips) : Fin 5 → Nat :=
  let c1_1052 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1951 : Index := Scalar.indexCast v226
  let c0_i32_433 : BitVec 32 := 0#32
  let c1_i32_435 : BitVec 32 := 1#32
  let arg19 : BitVec 32 := Scf.iv c0_i32_433 c1_i32_435 k0_t62
  let v1952 : Index := Scalar.indexCast arg19
  let c1024 : Index := 1024#32
  let c0_1053 : Index := 0#32
  ![1, v1951.toNat, v1952.toNat, 1024, 0]
def k0_off2905 (v330 : BitVec 32) : Fin 5 → Nat :=
  let c1_1054 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1956 : Index := Scalar.indexCast v347
  let c64_1055 : Index := 64#32
  let c0_1056 : Index := 0#32
  let c0_1057 : Index := 0#32
  ![1, v1956.toNat, 64, 0, 0]
def k0_off2906 (v1 : BitVec 32) (k0_t51 : Fin (k0_t51_loop v1).trips) (v228 : BitVec 32) (v257 : BitVec 32) (k0_t62 : Fin (k0_t62_loop v228 v257).trips) : Fin 5 → Nat :=
  let c1_1060 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1973 : Index := Scalar.indexCast v226
  let c64_1061 : Index := 64#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1974 : Index := Scalar.indexCast v382
  let c0_1062 : Index := 0#32
  ![1, v1973.toNat, 64, v1974.toNat, 0]
def k0_off2907 (v330 : BitVec 32) : Fin 5 → Nat :=
  let c1_1063 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1978 : Index := Scalar.indexCast v347
  let c65 : Index := 65#32
  let c0_1064 : Index := 0#32
  let c0_1065 : Index := 0#32
  ![1, v1978.toNat, 65, 0, 0]
def k0_off2908 (v1 : BitVec 32) (k0_t51 : Fin (k0_t51_loop v1).trips) (v228 : BitVec 32) (v257 : BitVec 32) (k0_t62 : Fin (k0_t62_loop v228 v257).trips) : Fin 5 → Nat :=
  let c1_1068 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1995 : Index := Scalar.indexCast v226
  let c65_1069 : Index := 65#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v1996 : Index := Scalar.indexCast v382
  let c0_1070 : Index := 0#32
  ![1, v1995.toNat, 65, v1996.toNat, 0]
def k0_off2909 (v1 : BitVec 32) (k0_t51 : Fin (k0_t51_loop v1).trips) (v228 : BitVec 32) (v257 : BitVec 32) (k0_t62 : Fin (k0_t62_loop v228 v257).trips) : Fin 5 → Nat :=
  let c1_1071 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2000 : Index := Scalar.indexCast v226
  let c0_i32_433 : BitVec 32 := 0#32
  let c1_i32_435 : BitVec 32 := 1#32
  let arg19 : BitVec 32 := Scf.iv c0_i32_433 c1_i32_435 k0_t62
  let v2001 : Index := Scalar.indexCast arg19
  let c1056 : Index := 1056#32
  let c0_1072 : Index := 0#32
  ![1, v2000.toNat, v2001.toNat, 1056, 0]
def k0_off2910 (v330 : BitVec 32) : Fin 5 → Nat :=
  let c1_1073 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2005 : Index := Scalar.indexCast v347
  let c66 : Index := 66#32
  let c0_1074 : Index := 0#32
  let c0_1075 : Index := 0#32
  ![1, v2005.toNat, 66, 0, 0]
def k0_off2911 (v1 : BitVec 32) (k0_t51 : Fin (k0_t51_loop v1).trips) (v228 : BitVec 32) (v257 : BitVec 32) (k0_t62 : Fin (k0_t62_loop v228 v257).trips) : Fin 5 → Nat :=
  let c1_1078 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2022 : Index := Scalar.indexCast v226
  let c66_1079 : Index := 66#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2023 : Index := Scalar.indexCast v382
  let c0_1080 : Index := 0#32
  ![1, v2022.toNat, 66, v2023.toNat, 0]
def k0_off2912 (v330 : BitVec 32) : Fin 5 → Nat :=
  let c1_1081 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2027 : Index := Scalar.indexCast v347
  let c67 : Index := 67#32
  let c0_1082 : Index := 0#32
  let c0_1083 : Index := 0#32
  ![1, v2027.toNat, 67, 0, 0]
def k0_off2913 (v1 : BitVec 32) (k0_t51 : Fin (k0_t51_loop v1).trips) (v228 : BitVec 32) (v257 : BitVec 32) (k0_t62 : Fin (k0_t62_loop v228 v257).trips) : Fin 5 → Nat :=
  let c1_1086 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2044 : Index := Scalar.indexCast v226
  let c67_1087 : Index := 67#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2045 : Index := Scalar.indexCast v382
  let c0_1088 : Index := 0#32
  ![1, v2044.toNat, 67, v2045.toNat, 0]
def k0_off2914 (v1 : BitVec 32) (k0_t51 : Fin (k0_t51_loop v1).trips) (v228 : BitVec 32) (v257 : BitVec 32) (k0_t62 : Fin (k0_t62_loop v228 v257).trips) : Fin 5 → Nat :=
  let c1_1089 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2049 : Index := Scalar.indexCast v226
  let c0_i32_433 : BitVec 32 := 0#32
  let c1_i32_435 : BitVec 32 := 1#32
  let arg19 : BitVec 32 := Scf.iv c0_i32_433 c1_i32_435 k0_t62
  let v2050 : Index := Scalar.indexCast arg19
  let c1088 : Index := 1088#32
  let c0_1090 : Index := 0#32
  ![1, v2049.toNat, v2050.toNat, 1088, 0]
def k0_off2915 (v330 : BitVec 32) : Fin 5 → Nat :=
  let c1_1091 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2054 : Index := Scalar.indexCast v347
  let c68 : Index := 68#32
  let c0_1092 : Index := 0#32
  let c0_1093 : Index := 0#32
  ![1, v2054.toNat, 68, 0, 0]
def k0_off2916 (v1 : BitVec 32) (k0_t51 : Fin (k0_t51_loop v1).trips) (v228 : BitVec 32) (v257 : BitVec 32) (k0_t62 : Fin (k0_t62_loop v228 v257).trips) : Fin 5 → Nat :=
  let c1_1096 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2071 : Index := Scalar.indexCast v226
  let c68_1097 : Index := 68#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2072 : Index := Scalar.indexCast v382
  let c0_1098 : Index := 0#32
  ![1, v2071.toNat, 68, v2072.toNat, 0]
def k0_off2917 (v330 : BitVec 32) : Fin 5 → Nat :=
  let c1_1099 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2076 : Index := Scalar.indexCast v347
  let c69 : Index := 69#32
  let c0_1100 : Index := 0#32
  let c0_1101 : Index := 0#32
  ![1, v2076.toNat, 69, 0, 0]
def k0_off2918 (v1 : BitVec 32) (k0_t51 : Fin (k0_t51_loop v1).trips) (v228 : BitVec 32) (v257 : BitVec 32) (k0_t62 : Fin (k0_t62_loop v228 v257).trips) : Fin 5 → Nat :=
  let c1_1104 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2093 : Index := Scalar.indexCast v226
  let c69_1105 : Index := 69#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2094 : Index := Scalar.indexCast v382
  let c0_1106 : Index := 0#32
  ![1, v2093.toNat, 69, v2094.toNat, 0]
def k0_off2919 (v1 : BitVec 32) (k0_t51 : Fin (k0_t51_loop v1).trips) (v228 : BitVec 32) (v257 : BitVec 32) (k0_t62 : Fin (k0_t62_loop v228 v257).trips) : Fin 5 → Nat :=
  let c1_1107 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2098 : Index := Scalar.indexCast v226
  let c0_i32_433 : BitVec 32 := 0#32
  let c1_i32_435 : BitVec 32 := 1#32
  let arg19 : BitVec 32 := Scf.iv c0_i32_433 c1_i32_435 k0_t62
  let v2099 : Index := Scalar.indexCast arg19
  let c1120 : Index := 1120#32
  let c0_1108 : Index := 0#32
  ![1, v2098.toNat, v2099.toNat, 1120, 0]
def k0_off2920 (v330 : BitVec 32) : Fin 5 → Nat :=
  let c1_1109 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2103 : Index := Scalar.indexCast v347
  let c70 : Index := 70#32
  let c0_1110 : Index := 0#32
  let c0_1111 : Index := 0#32
  ![1, v2103.toNat, 70, 0, 0]
def k0_off2921 (v1 : BitVec 32) (k0_t51 : Fin (k0_t51_loop v1).trips) (v228 : BitVec 32) (v257 : BitVec 32) (k0_t62 : Fin (k0_t62_loop v228 v257).trips) : Fin 5 → Nat :=
  let c1_1114 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2120 : Index := Scalar.indexCast v226
  let c70_1115 : Index := 70#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2121 : Index := Scalar.indexCast v382
  let c0_1116 : Index := 0#32
  ![1, v2120.toNat, 70, v2121.toNat, 0]
def k0_off2922 (v330 : BitVec 32) : Fin 5 → Nat :=
  let c1_1117 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2125 : Index := Scalar.indexCast v347
  let c71 : Index := 71#32
  let c0_1118 : Index := 0#32
  let c0_1119 : Index := 0#32
  ![1, v2125.toNat, 71, 0, 0]
def k0_off2923 (v1 : BitVec 32) (k0_t51 : Fin (k0_t51_loop v1).trips) (v228 : BitVec 32) (v257 : BitVec 32) (k0_t62 : Fin (k0_t62_loop v228 v257).trips) : Fin 5 → Nat :=
  let c1_1122 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2142 : Index := Scalar.indexCast v226
  let c71_1123 : Index := 71#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2143 : Index := Scalar.indexCast v382
  let c0_1124 : Index := 0#32
  ![1, v2142.toNat, 71, v2143.toNat, 0]
def k0_off2924 (v1 : BitVec 32) (k0_t51 : Fin (k0_t51_loop v1).trips) (v228 : BitVec 32) (v257 : BitVec 32) (k0_t62 : Fin (k0_t62_loop v228 v257).trips) : Fin 5 → Nat :=
  let c1_1125 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2147 : Index := Scalar.indexCast v226
  let c0_i32_433 : BitVec 32 := 0#32
  let c1_i32_435 : BitVec 32 := 1#32
  let arg19 : BitVec 32 := Scf.iv c0_i32_433 c1_i32_435 k0_t62
  let v2148 : Index := Scalar.indexCast arg19
  let c1152 : Index := 1152#32
  let c0_1126 : Index := 0#32
  ![1, v2147.toNat, v2148.toNat, 1152, 0]
def k0_off2925 (v330 : BitVec 32) : Fin 5 → Nat :=
  let c1_1127 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2152 : Index := Scalar.indexCast v347
  let c72 : Index := 72#32
  let c0_1128 : Index := 0#32
  let c0_1129 : Index := 0#32
  ![1, v2152.toNat, 72, 0, 0]
def k0_off2926 (v1 : BitVec 32) (k0_t51 : Fin (k0_t51_loop v1).trips) (v228 : BitVec 32) (v257 : BitVec 32) (k0_t62 : Fin (k0_t62_loop v228 v257).trips) : Fin 5 → Nat :=
  let c1_1132 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2169 : Index := Scalar.indexCast v226
  let c72_1133 : Index := 72#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2170 : Index := Scalar.indexCast v382
  let c0_1134 : Index := 0#32
  ![1, v2169.toNat, 72, v2170.toNat, 0]
def k0_off2927 (v330 : BitVec 32) : Fin 5 → Nat :=
  let c1_1135 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2174 : Index := Scalar.indexCast v347
  let c73 : Index := 73#32
  let c0_1136 : Index := 0#32
  let c0_1137 : Index := 0#32
  ![1, v2174.toNat, 73, 0, 0]
def k0_off2928 (v1 : BitVec 32) (k0_t51 : Fin (k0_t51_loop v1).trips) (v228 : BitVec 32) (v257 : BitVec 32) (k0_t62 : Fin (k0_t62_loop v228 v257).trips) : Fin 5 → Nat :=
  let c1_1140 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2191 : Index := Scalar.indexCast v226
  let c73_1141 : Index := 73#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2192 : Index := Scalar.indexCast v382
  let c0_1142 : Index := 0#32
  ![1, v2191.toNat, 73, v2192.toNat, 0]
def k0_off2929 (v1 : BitVec 32) (k0_t51 : Fin (k0_t51_loop v1).trips) (v228 : BitVec 32) (v257 : BitVec 32) (k0_t62 : Fin (k0_t62_loop v228 v257).trips) : Fin 5 → Nat :=
  let c1_1143 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2196 : Index := Scalar.indexCast v226
  let c0_i32_433 : BitVec 32 := 0#32
  let c1_i32_435 : BitVec 32 := 1#32
  let arg19 : BitVec 32 := Scf.iv c0_i32_433 c1_i32_435 k0_t62
  let v2197 : Index := Scalar.indexCast arg19
  let c1184 : Index := 1184#32
  let c0_1144 : Index := 0#32
  ![1, v2196.toNat, v2197.toNat, 1184, 0]
def k0_off2930 (v330 : BitVec 32) : Fin 5 → Nat :=
  let c1_1145 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2201 : Index := Scalar.indexCast v347
  let c74 : Index := 74#32
  let c0_1146 : Index := 0#32
  let c0_1147 : Index := 0#32
  ![1, v2201.toNat, 74, 0, 0]
def k0_off2931 (v1 : BitVec 32) (k0_t51 : Fin (k0_t51_loop v1).trips) (v228 : BitVec 32) (v257 : BitVec 32) (k0_t62 : Fin (k0_t62_loop v228 v257).trips) : Fin 5 → Nat :=
  let c1_1150 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2218 : Index := Scalar.indexCast v226
  let c74_1151 : Index := 74#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2219 : Index := Scalar.indexCast v382
  let c0_1152 : Index := 0#32
  ![1, v2218.toNat, 74, v2219.toNat, 0]
def k0_off2932 (v330 : BitVec 32) : Fin 5 → Nat :=
  let c1_1153 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2223 : Index := Scalar.indexCast v347
  let c75 : Index := 75#32
  let c0_1154 : Index := 0#32
  let c0_1155 : Index := 0#32
  ![1, v2223.toNat, 75, 0, 0]
def k0_off2933 (v1 : BitVec 32) (k0_t51 : Fin (k0_t51_loop v1).trips) (v228 : BitVec 32) (v257 : BitVec 32) (k0_t62 : Fin (k0_t62_loop v228 v257).trips) : Fin 5 → Nat :=
  let c1_1158 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2240 : Index := Scalar.indexCast v226
  let c75_1159 : Index := 75#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2241 : Index := Scalar.indexCast v382
  let c0_1160 : Index := 0#32
  ![1, v2240.toNat, 75, v2241.toNat, 0]
def k0_off2934 (v1 : BitVec 32) (k0_t51 : Fin (k0_t51_loop v1).trips) (v228 : BitVec 32) (v257 : BitVec 32) (k0_t62 : Fin (k0_t62_loop v228 v257).trips) : Fin 5 → Nat :=
  let c1_1161 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2245 : Index := Scalar.indexCast v226
  let c0_i32_433 : BitVec 32 := 0#32
  let c1_i32_435 : BitVec 32 := 1#32
  let arg19 : BitVec 32 := Scf.iv c0_i32_433 c1_i32_435 k0_t62
  let v2246 : Index := Scalar.indexCast arg19
  let c1216 : Index := 1216#32
  let c0_1162 : Index := 0#32
  ![1, v2245.toNat, v2246.toNat, 1216, 0]
def k0_off2935 (v330 : BitVec 32) : Fin 5 → Nat :=
  let c1_1163 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2250 : Index := Scalar.indexCast v347
  let c76 : Index := 76#32
  let c0_1164 : Index := 0#32
  let c0_1165 : Index := 0#32
  ![1, v2250.toNat, 76, 0, 0]
def k0_off2936 (v1 : BitVec 32) (k0_t51 : Fin (k0_t51_loop v1).trips) (v228 : BitVec 32) (v257 : BitVec 32) (k0_t62 : Fin (k0_t62_loop v228 v257).trips) : Fin 5 → Nat :=
  let c1_1168 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2267 : Index := Scalar.indexCast v226
  let c76_1169 : Index := 76#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2268 : Index := Scalar.indexCast v382
  let c0_1170 : Index := 0#32
  ![1, v2267.toNat, 76, v2268.toNat, 0]
def k0_off2937 (v330 : BitVec 32) : Fin 5 → Nat :=
  let c1_1171 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2272 : Index := Scalar.indexCast v347
  let c77 : Index := 77#32
  let c0_1172 : Index := 0#32
  let c0_1173 : Index := 0#32
  ![1, v2272.toNat, 77, 0, 0]
def k0_off2938 (v1 : BitVec 32) (k0_t51 : Fin (k0_t51_loop v1).trips) (v228 : BitVec 32) (v257 : BitVec 32) (k0_t62 : Fin (k0_t62_loop v228 v257).trips) : Fin 5 → Nat :=
  let c1_1176 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2289 : Index := Scalar.indexCast v226
  let c77_1177 : Index := 77#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2290 : Index := Scalar.indexCast v382
  let c0_1178 : Index := 0#32
  ![1, v2289.toNat, 77, v2290.toNat, 0]
def k0_off2939 (v1 : BitVec 32) (k0_t51 : Fin (k0_t51_loop v1).trips) (v228 : BitVec 32) (v257 : BitVec 32) (k0_t62 : Fin (k0_t62_loop v228 v257).trips) : Fin 5 → Nat :=
  let c1_1179 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2294 : Index := Scalar.indexCast v226
  let c0_i32_433 : BitVec 32 := 0#32
  let c1_i32_435 : BitVec 32 := 1#32
  let arg19 : BitVec 32 := Scf.iv c0_i32_433 c1_i32_435 k0_t62
  let v2295 : Index := Scalar.indexCast arg19
  let c1248 : Index := 1248#32
  let c0_1180 : Index := 0#32
  ![1, v2294.toNat, v2295.toNat, 1248, 0]
def k0_off2940 (v330 : BitVec 32) : Fin 5 → Nat :=
  let c1_1181 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2299 : Index := Scalar.indexCast v347
  let c78 : Index := 78#32
  let c0_1182 : Index := 0#32
  let c0_1183 : Index := 0#32
  ![1, v2299.toNat, 78, 0, 0]
def k0_off2941 (v1 : BitVec 32) (k0_t51 : Fin (k0_t51_loop v1).trips) (v228 : BitVec 32) (v257 : BitVec 32) (k0_t62 : Fin (k0_t62_loop v228 v257).trips) : Fin 5 → Nat :=
  let c1_1186 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2316 : Index := Scalar.indexCast v226
  let c78_1187 : Index := 78#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2317 : Index := Scalar.indexCast v382
  let c0_1188 : Index := 0#32
  ![1, v2316.toNat, 78, v2317.toNat, 0]
def k0_off2942 (v330 : BitVec 32) : Fin 5 → Nat :=
  let c1_1189 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2321 : Index := Scalar.indexCast v347
  let c79 : Index := 79#32
  let c0_1190 : Index := 0#32
  let c0_1191 : Index := 0#32
  ![1, v2321.toNat, 79, 0, 0]
def k0_off2943 (v1 : BitVec 32) (k0_t51 : Fin (k0_t51_loop v1).trips) (v228 : BitVec 32) (v257 : BitVec 32) (k0_t62 : Fin (k0_t62_loop v228 v257).trips) : Fin 5 → Nat :=
  let c1_1194 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2338 : Index := Scalar.indexCast v226
  let c79_1195 : Index := 79#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2339 : Index := Scalar.indexCast v382
  let c0_1196 : Index := 0#32
  ![1, v2338.toNat, 79, v2339.toNat, 0]
def k0_off2944 (v1 : BitVec 32) (k0_t51 : Fin (k0_t51_loop v1).trips) (v228 : BitVec 32) (v257 : BitVec 32) (k0_t62 : Fin (k0_t62_loop v228 v257).trips) : Fin 5 → Nat :=
  let c1_1197 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2343 : Index := Scalar.indexCast v226
  let c0_i32_433 : BitVec 32 := 0#32
  let c1_i32_435 : BitVec 32 := 1#32
  let arg19 : BitVec 32 := Scf.iv c0_i32_433 c1_i32_435 k0_t62
  let v2344 : Index := Scalar.indexCast arg19
  let c1280 : Index := 1280#32
  let c0_1198 : Index := 0#32
  ![1, v2343.toNat, v2344.toNat, 1280, 0]
def k0_off2945 (v330 : BitVec 32) : Fin 5 → Nat :=
  let c1_1199 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2348 : Index := Scalar.indexCast v347
  let c80 : Index := 80#32
  let c0_1200 : Index := 0#32
  let c0_1201 : Index := 0#32
  ![1, v2348.toNat, 80, 0, 0]
def k0_off2946 (v1 : BitVec 32) (k0_t51 : Fin (k0_t51_loop v1).trips) (v228 : BitVec 32) (v257 : BitVec 32) (k0_t62 : Fin (k0_t62_loop v228 v257).trips) : Fin 5 → Nat :=
  let c1_1204 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2365 : Index := Scalar.indexCast v226
  let c80_1205 : Index := 80#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2366 : Index := Scalar.indexCast v382
  let c0_1206 : Index := 0#32
  ![1, v2365.toNat, 80, v2366.toNat, 0]
def k0_off2947 (v330 : BitVec 32) : Fin 5 → Nat :=
  let c1_1207 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2370 : Index := Scalar.indexCast v347
  let c81 : Index := 81#32
  let c0_1208 : Index := 0#32
  let c0_1209 : Index := 0#32
  ![1, v2370.toNat, 81, 0, 0]
def k0_off2948 (v1 : BitVec 32) (k0_t51 : Fin (k0_t51_loop v1).trips) (v228 : BitVec 32) (v257 : BitVec 32) (k0_t62 : Fin (k0_t62_loop v228 v257).trips) : Fin 5 → Nat :=
  let c1_1212 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2387 : Index := Scalar.indexCast v226
  let c81_1213 : Index := 81#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2388 : Index := Scalar.indexCast v382
  let c0_1214 : Index := 0#32
  ![1, v2387.toNat, 81, v2388.toNat, 0]
def k0_off2949 (v1 : BitVec 32) (k0_t51 : Fin (k0_t51_loop v1).trips) (v228 : BitVec 32) (v257 : BitVec 32) (k0_t62 : Fin (k0_t62_loop v228 v257).trips) : Fin 5 → Nat :=
  let c1_1215 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2392 : Index := Scalar.indexCast v226
  let c0_i32_433 : BitVec 32 := 0#32
  let c1_i32_435 : BitVec 32 := 1#32
  let arg19 : BitVec 32 := Scf.iv c0_i32_433 c1_i32_435 k0_t62
  let v2393 : Index := Scalar.indexCast arg19
  let c1312 : Index := 1312#32
  let c0_1216 : Index := 0#32
  ![1, v2392.toNat, v2393.toNat, 1312, 0]
def k0_off2950 (v330 : BitVec 32) : Fin 5 → Nat :=
  let c1_1217 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2397 : Index := Scalar.indexCast v347
  let c82 : Index := 82#32
  let c0_1218 : Index := 0#32
  let c0_1219 : Index := 0#32
  ![1, v2397.toNat, 82, 0, 0]
def k0_off2951 (v1 : BitVec 32) (k0_t51 : Fin (k0_t51_loop v1).trips) (v228 : BitVec 32) (v257 : BitVec 32) (k0_t62 : Fin (k0_t62_loop v228 v257).trips) : Fin 5 → Nat :=
  let c1_1222 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2414 : Index := Scalar.indexCast v226
  let c82_1223 : Index := 82#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2415 : Index := Scalar.indexCast v382
  let c0_1224 : Index := 0#32
  ![1, v2414.toNat, 82, v2415.toNat, 0]
def k0_off2952 (v330 : BitVec 32) : Fin 5 → Nat :=
  let c1_1225 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2419 : Index := Scalar.indexCast v347
  let c83 : Index := 83#32
  let c0_1226 : Index := 0#32
  let c0_1227 : Index := 0#32
  ![1, v2419.toNat, 83, 0, 0]
def k0_off2953 (v1 : BitVec 32) (k0_t51 : Fin (k0_t51_loop v1).trips) (v228 : BitVec 32) (v257 : BitVec 32) (k0_t62 : Fin (k0_t62_loop v228 v257).trips) : Fin 5 → Nat :=
  let c1_1230 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2436 : Index := Scalar.indexCast v226
  let c83_1231 : Index := 83#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2437 : Index := Scalar.indexCast v382
  let c0_1232 : Index := 0#32
  ![1, v2436.toNat, 83, v2437.toNat, 0]
def k0_off2954 (v1 : BitVec 32) (k0_t51 : Fin (k0_t51_loop v1).trips) (v228 : BitVec 32) (v257 : BitVec 32) (k0_t62 : Fin (k0_t62_loop v228 v257).trips) : Fin 5 → Nat :=
  let c1_1233 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2441 : Index := Scalar.indexCast v226
  let c0_i32_433 : BitVec 32 := 0#32
  let c1_i32_435 : BitVec 32 := 1#32
  let arg19 : BitVec 32 := Scf.iv c0_i32_433 c1_i32_435 k0_t62
  let v2442 : Index := Scalar.indexCast arg19
  let c1344 : Index := 1344#32
  let c0_1234 : Index := 0#32
  ![1, v2441.toNat, v2442.toNat, 1344, 0]
def k0_off2955 (v330 : BitVec 32) : Fin 5 → Nat :=
  let c1_1235 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2446 : Index := Scalar.indexCast v347
  let c84 : Index := 84#32
  let c0_1236 : Index := 0#32
  let c0_1237 : Index := 0#32
  ![1, v2446.toNat, 84, 0, 0]
def k0_off2956 (v1 : BitVec 32) (k0_t51 : Fin (k0_t51_loop v1).trips) (v228 : BitVec 32) (v257 : BitVec 32) (k0_t62 : Fin (k0_t62_loop v228 v257).trips) : Fin 5 → Nat :=
  let c1_1240 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2463 : Index := Scalar.indexCast v226
  let c84_1241 : Index := 84#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2464 : Index := Scalar.indexCast v382
  let c0_1242 : Index := 0#32
  ![1, v2463.toNat, 84, v2464.toNat, 0]
def k0_off2957 (v330 : BitVec 32) : Fin 5 → Nat :=
  let c1_1243 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2468 : Index := Scalar.indexCast v347
  let c85 : Index := 85#32
  let c0_1244 : Index := 0#32
  let c0_1245 : Index := 0#32
  ![1, v2468.toNat, 85, 0, 0]
def k0_off2958 (v1 : BitVec 32) (k0_t51 : Fin (k0_t51_loop v1).trips) (v228 : BitVec 32) (v257 : BitVec 32) (k0_t62 : Fin (k0_t62_loop v228 v257).trips) : Fin 5 → Nat :=
  let c1_1248 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2485 : Index := Scalar.indexCast v226
  let c85_1249 : Index := 85#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2486 : Index := Scalar.indexCast v382
  let c0_1250 : Index := 0#32
  ![1, v2485.toNat, 85, v2486.toNat, 0]
def k0_off2959 (v1 : BitVec 32) (k0_t51 : Fin (k0_t51_loop v1).trips) (v228 : BitVec 32) (v257 : BitVec 32) (k0_t62 : Fin (k0_t62_loop v228 v257).trips) : Fin 5 → Nat :=
  let c1_1251 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2490 : Index := Scalar.indexCast v226
  let c0_i32_433 : BitVec 32 := 0#32
  let c1_i32_435 : BitVec 32 := 1#32
  let arg19 : BitVec 32 := Scf.iv c0_i32_433 c1_i32_435 k0_t62
  let v2491 : Index := Scalar.indexCast arg19
  let c1376 : Index := 1376#32
  let c0_1252 : Index := 0#32
  ![1, v2490.toNat, v2491.toNat, 1376, 0]
def k0_off2960 (v330 : BitVec 32) : Fin 5 → Nat :=
  let c1_1253 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2495 : Index := Scalar.indexCast v347
  let c86 : Index := 86#32
  let c0_1254 : Index := 0#32
  let c0_1255 : Index := 0#32
  ![1, v2495.toNat, 86, 0, 0]
def k0_off2961 (v1 : BitVec 32) (k0_t51 : Fin (k0_t51_loop v1).trips) (v228 : BitVec 32) (v257 : BitVec 32) (k0_t62 : Fin (k0_t62_loop v228 v257).trips) : Fin 5 → Nat :=
  let c1_1258 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2512 : Index := Scalar.indexCast v226
  let c86_1259 : Index := 86#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2513 : Index := Scalar.indexCast v382
  let c0_1260 : Index := 0#32
  ![1, v2512.toNat, 86, v2513.toNat, 0]
def k0_off2962 (v330 : BitVec 32) : Fin 5 → Nat :=
  let c1_1261 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2517 : Index := Scalar.indexCast v347
  let c87 : Index := 87#32
  let c0_1262 : Index := 0#32
  let c0_1263 : Index := 0#32
  ![1, v2517.toNat, 87, 0, 0]
def k0_off2963 (v1 : BitVec 32) (k0_t51 : Fin (k0_t51_loop v1).trips) (v228 : BitVec 32) (v257 : BitVec 32) (k0_t62 : Fin (k0_t62_loop v228 v257).trips) : Fin 5 → Nat :=
  let c1_1266 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2534 : Index := Scalar.indexCast v226
  let c87_1267 : Index := 87#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2535 : Index := Scalar.indexCast v382
  let c0_1268 : Index := 0#32
  ![1, v2534.toNat, 87, v2535.toNat, 0]
def k0_off2964 (v1 : BitVec 32) (k0_t51 : Fin (k0_t51_loop v1).trips) (v228 : BitVec 32) (v257 : BitVec 32) (k0_t62 : Fin (k0_t62_loop v228 v257).trips) : Fin 5 → Nat :=
  let c1_1269 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2539 : Index := Scalar.indexCast v226
  let c0_i32_433 : BitVec 32 := 0#32
  let c1_i32_435 : BitVec 32 := 1#32
  let arg19 : BitVec 32 := Scf.iv c0_i32_433 c1_i32_435 k0_t62
  let v2540 : Index := Scalar.indexCast arg19
  let c1408 : Index := 1408#32
  let c0_1270 : Index := 0#32
  ![1, v2539.toNat, v2540.toNat, 1408, 0]
def k0_off2965 (v330 : BitVec 32) : Fin 5 → Nat :=
  let c1_1271 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2544 : Index := Scalar.indexCast v347
  let c88 : Index := 88#32
  let c0_1272 : Index := 0#32
  let c0_1273 : Index := 0#32
  ![1, v2544.toNat, 88, 0, 0]
def k0_off2966 (v1 : BitVec 32) (k0_t51 : Fin (k0_t51_loop v1).trips) (v228 : BitVec 32) (v257 : BitVec 32) (k0_t62 : Fin (k0_t62_loop v228 v257).trips) : Fin 5 → Nat :=
  let c1_1276 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2561 : Index := Scalar.indexCast v226
  let c88_1277 : Index := 88#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2562 : Index := Scalar.indexCast v382
  let c0_1278 : Index := 0#32
  ![1, v2561.toNat, 88, v2562.toNat, 0]
def k0_off2967 (v330 : BitVec 32) : Fin 5 → Nat :=
  let c1_1279 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2566 : Index := Scalar.indexCast v347
  let c89 : Index := 89#32
  let c0_1280 : Index := 0#32
  let c0_1281 : Index := 0#32
  ![1, v2566.toNat, 89, 0, 0]
def k0_off2968 (v1 : BitVec 32) (k0_t51 : Fin (k0_t51_loop v1).trips) (v228 : BitVec 32) (v257 : BitVec 32) (k0_t62 : Fin (k0_t62_loop v228 v257).trips) : Fin 5 → Nat :=
  let c1_1284 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2583 : Index := Scalar.indexCast v226
  let c89_1285 : Index := 89#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2584 : Index := Scalar.indexCast v382
  let c0_1286 : Index := 0#32
  ![1, v2583.toNat, 89, v2584.toNat, 0]
def k0_off2969 (v1 : BitVec 32) (k0_t51 : Fin (k0_t51_loop v1).trips) (v228 : BitVec 32) (v257 : BitVec 32) (k0_t62 : Fin (k0_t62_loop v228 v257).trips) : Fin 5 → Nat :=
  let c1_1287 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2588 : Index := Scalar.indexCast v226
  let c0_i32_433 : BitVec 32 := 0#32
  let c1_i32_435 : BitVec 32 := 1#32
  let arg19 : BitVec 32 := Scf.iv c0_i32_433 c1_i32_435 k0_t62
  let v2589 : Index := Scalar.indexCast arg19
  let c1440 : Index := 1440#32
  let c0_1288 : Index := 0#32
  ![1, v2588.toNat, v2589.toNat, 1440, 0]
def k0_off2970 (v330 : BitVec 32) : Fin 5 → Nat :=
  let c1_1289 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2593 : Index := Scalar.indexCast v347
  let c90 : Index := 90#32
  let c0_1290 : Index := 0#32
  let c0_1291 : Index := 0#32
  ![1, v2593.toNat, 90, 0, 0]
def k0_off2971 (v1 : BitVec 32) (k0_t51 : Fin (k0_t51_loop v1).trips) (v228 : BitVec 32) (v257 : BitVec 32) (k0_t62 : Fin (k0_t62_loop v228 v257).trips) : Fin 5 → Nat :=
  let c1_1294 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2610 : Index := Scalar.indexCast v226
  let c90_1295 : Index := 90#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2611 : Index := Scalar.indexCast v382
  let c0_1296 : Index := 0#32
  ![1, v2610.toNat, 90, v2611.toNat, 0]
def k0_off2972 (v330 : BitVec 32) : Fin 5 → Nat :=
  let c1_1297 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2615 : Index := Scalar.indexCast v347
  let c91 : Index := 91#32
  let c0_1298 : Index := 0#32
  let c0_1299 : Index := 0#32
  ![1, v2615.toNat, 91, 0, 0]
def k0_off2973 (v1 : BitVec 32) (k0_t51 : Fin (k0_t51_loop v1).trips) (v228 : BitVec 32) (v257 : BitVec 32) (k0_t62 : Fin (k0_t62_loop v228 v257).trips) : Fin 5 → Nat :=
  let c1_1302 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2632 : Index := Scalar.indexCast v226
  let c91_1303 : Index := 91#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2633 : Index := Scalar.indexCast v382
  let c0_1304 : Index := 0#32
  ![1, v2632.toNat, 91, v2633.toNat, 0]
def k0_off2974 (v1 : BitVec 32) (k0_t51 : Fin (k0_t51_loop v1).trips) (v228 : BitVec 32) (v257 : BitVec 32) (k0_t62 : Fin (k0_t62_loop v228 v257).trips) : Fin 5 → Nat :=
  let c1_1305 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2637 : Index := Scalar.indexCast v226
  let c0_i32_433 : BitVec 32 := 0#32
  let c1_i32_435 : BitVec 32 := 1#32
  let arg19 : BitVec 32 := Scf.iv c0_i32_433 c1_i32_435 k0_t62
  let v2638 : Index := Scalar.indexCast arg19
  let c1472 : Index := 1472#32
  let c0_1306 : Index := 0#32
  ![1, v2637.toNat, v2638.toNat, 1472, 0]
def k0_off2975 (v330 : BitVec 32) : Fin 5 → Nat :=
  let c1_1307 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2642 : Index := Scalar.indexCast v347
  let c92 : Index := 92#32
  let c0_1308 : Index := 0#32
  let c0_1309 : Index := 0#32
  ![1, v2642.toNat, 92, 0, 0]
def k0_off2976 (v1 : BitVec 32) (k0_t51 : Fin (k0_t51_loop v1).trips) (v228 : BitVec 32) (v257 : BitVec 32) (k0_t62 : Fin (k0_t62_loop v228 v257).trips) : Fin 5 → Nat :=
  let c1_1312 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2659 : Index := Scalar.indexCast v226
  let c92_1313 : Index := 92#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2660 : Index := Scalar.indexCast v382
  let c0_1314 : Index := 0#32
  ![1, v2659.toNat, 92, v2660.toNat, 0]
def k0_off2977 (v330 : BitVec 32) : Fin 5 → Nat :=
  let c1_1315 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2664 : Index := Scalar.indexCast v347
  let c93 : Index := 93#32
  let c0_1316 : Index := 0#32
  let c0_1317 : Index := 0#32
  ![1, v2664.toNat, 93, 0, 0]
def k0_off2978 (v1 : BitVec 32) (k0_t51 : Fin (k0_t51_loop v1).trips) (v228 : BitVec 32) (v257 : BitVec 32) (k0_t62 : Fin (k0_t62_loop v228 v257).trips) : Fin 5 → Nat :=
  let c1_1320 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2681 : Index := Scalar.indexCast v226
  let c93_1321 : Index := 93#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2682 : Index := Scalar.indexCast v382
  let c0_1322 : Index := 0#32
  ![1, v2681.toNat, 93, v2682.toNat, 0]
def k0_off2979 (v1 : BitVec 32) (k0_t51 : Fin (k0_t51_loop v1).trips) (v228 : BitVec 32) (v257 : BitVec 32) (k0_t62 : Fin (k0_t62_loop v228 v257).trips) : Fin 5 → Nat :=
  let c1_1323 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2686 : Index := Scalar.indexCast v226
  let c0_i32_433 : BitVec 32 := 0#32
  let c1_i32_435 : BitVec 32 := 1#32
  let arg19 : BitVec 32 := Scf.iv c0_i32_433 c1_i32_435 k0_t62
  let v2687 : Index := Scalar.indexCast arg19
  let c1504 : Index := 1504#32
  let c0_1324 : Index := 0#32
  ![1, v2686.toNat, v2687.toNat, 1504, 0]
def k0_off2980 (v330 : BitVec 32) : Fin 5 → Nat :=
  let c1_1325 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2691 : Index := Scalar.indexCast v347
  let c94 : Index := 94#32
  let c0_1326 : Index := 0#32
  let c0_1327 : Index := 0#32
  ![1, v2691.toNat, 94, 0, 0]
def k0_off2981 (v1 : BitVec 32) (k0_t51 : Fin (k0_t51_loop v1).trips) (v228 : BitVec 32) (v257 : BitVec 32) (k0_t62 : Fin (k0_t62_loop v228 v257).trips) : Fin 5 → Nat :=
  let c1_1330 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2708 : Index := Scalar.indexCast v226
  let c94_1331 : Index := 94#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2709 : Index := Scalar.indexCast v382
  let c0_1332 : Index := 0#32
  ![1, v2708.toNat, 94, v2709.toNat, 0]
def k0_off2982 (v330 : BitVec 32) : Fin 5 → Nat :=
  let c1_1333 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2713 : Index := Scalar.indexCast v347
  let c95 : Index := 95#32
  let c0_1334 : Index := 0#32
  let c0_1335 : Index := 0#32
  ![1, v2713.toNat, 95, 0, 0]
def k0_off2983 (v1 : BitVec 32) (k0_t51 : Fin (k0_t51_loop v1).trips) (v228 : BitVec 32) (v257 : BitVec 32) (k0_t62 : Fin (k0_t62_loop v228 v257).trips) : Fin 5 → Nat :=
  let c1_1338 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2730 : Index := Scalar.indexCast v226
  let c95_1339 : Index := 95#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2731 : Index := Scalar.indexCast v382
  let c0_1340 : Index := 0#32
  ![1, v2730.toNat, 95, v2731.toNat, 0]
def k0_off2984 (v1 : BitVec 32) (k0_t51 : Fin (k0_t51_loop v1).trips) (v228 : BitVec 32) (v257 : BitVec 32) (k0_t62 : Fin (k0_t62_loop v228 v257).trips) : Fin 5 → Nat :=
  let c1_1341 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2735 : Index := Scalar.indexCast v226
  let c0_i32_433 : BitVec 32 := 0#32
  let c1_i32_435 : BitVec 32 := 1#32
  let arg19 : BitVec 32 := Scf.iv c0_i32_433 c1_i32_435 k0_t62
  let v2736 : Index := Scalar.indexCast arg19
  let c1536 : Index := 1536#32
  let c0_1342 : Index := 0#32
  ![1, v2735.toNat, v2736.toNat, 1536, 0]
def k0_off2985 (v330 : BitVec 32) : Fin 5 → Nat :=
  let c1_1343 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2740 : Index := Scalar.indexCast v347
  let c96_1344 : Index := 96#32
  let c0_1345 : Index := 0#32
  let c0_1346 : Index := 0#32
  ![1, v2740.toNat, 96, 0, 0]
def k0_off2986 (v1 : BitVec 32) (k0_t51 : Fin (k0_t51_loop v1).trips) (v228 : BitVec 32) (v257 : BitVec 32) (k0_t62 : Fin (k0_t62_loop v228 v257).trips) : Fin 5 → Nat :=
  let c1_1349 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2757 : Index := Scalar.indexCast v226
  let c96_1350 : Index := 96#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2758 : Index := Scalar.indexCast v382
  let c0_1351 : Index := 0#32
  ![1, v2757.toNat, 96, v2758.toNat, 0]
def k0_off2987 (v330 : BitVec 32) : Fin 5 → Nat :=
  let c1_1352 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2762 : Index := Scalar.indexCast v347
  let c97 : Index := 97#32
  let c0_1353 : Index := 0#32
  let c0_1354 : Index := 0#32
  ![1, v2762.toNat, 97, 0, 0]
def k0_off2988 (v1 : BitVec 32) (k0_t51 : Fin (k0_t51_loop v1).trips) (v228 : BitVec 32) (v257 : BitVec 32) (k0_t62 : Fin (k0_t62_loop v228 v257).trips) : Fin 5 → Nat :=
  let c1_1357 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2779 : Index := Scalar.indexCast v226
  let c97_1358 : Index := 97#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2780 : Index := Scalar.indexCast v382
  let c0_1359 : Index := 0#32
  ![1, v2779.toNat, 97, v2780.toNat, 0]
def k0_off2989 (v1 : BitVec 32) (k0_t51 : Fin (k0_t51_loop v1).trips) (v228 : BitVec 32) (v257 : BitVec 32) (k0_t62 : Fin (k0_t62_loop v228 v257).trips) : Fin 5 → Nat :=
  let c1_1360 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2784 : Index := Scalar.indexCast v226
  let c0_i32_433 : BitVec 32 := 0#32
  let c1_i32_435 : BitVec 32 := 1#32
  let arg19 : BitVec 32 := Scf.iv c0_i32_433 c1_i32_435 k0_t62
  let v2785 : Index := Scalar.indexCast arg19
  let c1568 : Index := 1568#32
  let c0_1361 : Index := 0#32
  ![1, v2784.toNat, v2785.toNat, 1568, 0]
def k0_off2990 (v330 : BitVec 32) : Fin 5 → Nat :=
  let c1_1362 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2789 : Index := Scalar.indexCast v347
  let c98 : Index := 98#32
  let c0_1363 : Index := 0#32
  let c0_1364 : Index := 0#32
  ![1, v2789.toNat, 98, 0, 0]
def k0_off2991 (v1 : BitVec 32) (k0_t51 : Fin (k0_t51_loop v1).trips) (v228 : BitVec 32) (v257 : BitVec 32) (k0_t62 : Fin (k0_t62_loop v228 v257).trips) : Fin 5 → Nat :=
  let c1_1367 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2806 : Index := Scalar.indexCast v226
  let c98_1368 : Index := 98#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2807 : Index := Scalar.indexCast v382
  let c0_1369 : Index := 0#32
  ![1, v2806.toNat, 98, v2807.toNat, 0]
def k0_off2992 (v330 : BitVec 32) : Fin 5 → Nat :=
  let c1_1370 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2811 : Index := Scalar.indexCast v347
  let c99 : Index := 99#32
  let c0_1371 : Index := 0#32
  let c0_1372 : Index := 0#32
  ![1, v2811.toNat, 99, 0, 0]
def k0_off2993 (v1 : BitVec 32) (k0_t51 : Fin (k0_t51_loop v1).trips) (v228 : BitVec 32) (v257 : BitVec 32) (k0_t62 : Fin (k0_t62_loop v228 v257).trips) : Fin 5 → Nat :=
  let c1_1375 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2828 : Index := Scalar.indexCast v226
  let c99_1376 : Index := 99#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2829 : Index := Scalar.indexCast v382
  let c0_1377 : Index := 0#32
  ![1, v2828.toNat, 99, v2829.toNat, 0]
def k0_off2994 (v1 : BitVec 32) (k0_t51 : Fin (k0_t51_loop v1).trips) (v228 : BitVec 32) (v257 : BitVec 32) (k0_t62 : Fin (k0_t62_loop v228 v257).trips) : Fin 5 → Nat :=
  let c1_1378 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2833 : Index := Scalar.indexCast v226
  let c0_i32_433 : BitVec 32 := 0#32
  let c1_i32_435 : BitVec 32 := 1#32
  let arg19 : BitVec 32 := Scf.iv c0_i32_433 c1_i32_435 k0_t62
  let v2834 : Index := Scalar.indexCast arg19
  let c1600 : Index := 1600#32
  let c0_1379 : Index := 0#32
  ![1, v2833.toNat, v2834.toNat, 1600, 0]
def k0_off2995 (v330 : BitVec 32) : Fin 5 → Nat :=
  let c1_1380 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2838 : Index := Scalar.indexCast v347
  let c100 : Index := 100#32
  let c0_1381 : Index := 0#32
  let c0_1382 : Index := 0#32
  ![1, v2838.toNat, 100, 0, 0]
def k0_off2996 (v1 : BitVec 32) (k0_t51 : Fin (k0_t51_loop v1).trips) (v228 : BitVec 32) (v257 : BitVec 32) (k0_t62 : Fin (k0_t62_loop v228 v257).trips) : Fin 5 → Nat :=
  let c1_1385 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2855 : Index := Scalar.indexCast v226
  let c100_1386 : Index := 100#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2856 : Index := Scalar.indexCast v382
  let c0_1387 : Index := 0#32
  ![1, v2855.toNat, 100, v2856.toNat, 0]
def k0_off2997 (v330 : BitVec 32) : Fin 5 → Nat :=
  let c1_1388 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2860 : Index := Scalar.indexCast v347
  let c101 : Index := 101#32
  let c0_1389 : Index := 0#32
  let c0_1390 : Index := 0#32
  ![1, v2860.toNat, 101, 0, 0]
def k0_off2998 (v1 : BitVec 32) (k0_t51 : Fin (k0_t51_loop v1).trips) (v228 : BitVec 32) (v257 : BitVec 32) (k0_t62 : Fin (k0_t62_loop v228 v257).trips) : Fin 5 → Nat :=
  let c1_1393 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2877 : Index := Scalar.indexCast v226
  let c101_1394 : Index := 101#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2878 : Index := Scalar.indexCast v382
  let c0_1395 : Index := 0#32
  ![1, v2877.toNat, 101, v2878.toNat, 0]
def k0_off2999 (v1 : BitVec 32) (k0_t51 : Fin (k0_t51_loop v1).trips) (v228 : BitVec 32) (v257 : BitVec 32) (k0_t62 : Fin (k0_t62_loop v228 v257).trips) : Fin 5 → Nat :=
  let c1_1396 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2882 : Index := Scalar.indexCast v226
  let c0_i32_433 : BitVec 32 := 0#32
  let c1_i32_435 : BitVec 32 := 1#32
  let arg19 : BitVec 32 := Scf.iv c0_i32_433 c1_i32_435 k0_t62
  let v2883 : Index := Scalar.indexCast arg19
  let c1632 : Index := 1632#32
  let c0_1397 : Index := 0#32
  ![1, v2882.toNat, v2883.toNat, 1632, 0]
def k0_off3000 (v330 : BitVec 32) : Fin 5 → Nat :=
  let c1_1398 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2887 : Index := Scalar.indexCast v347
  let c102 : Index := 102#32
  let c0_1399 : Index := 0#32
  let c0_1400 : Index := 0#32
  ![1, v2887.toNat, 102, 0, 0]
def k0_off3001 (v1 : BitVec 32) (k0_t51 : Fin (k0_t51_loop v1).trips) (v228 : BitVec 32) (v257 : BitVec 32) (k0_t62 : Fin (k0_t62_loop v228 v257).trips) : Fin 5 → Nat :=
  let c1_1403 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2904 : Index := Scalar.indexCast v226
  let c102_1404 : Index := 102#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2905 : Index := Scalar.indexCast v382
  let c0_1405 : Index := 0#32
  ![1, v2904.toNat, 102, v2905.toNat, 0]
def k0_off3002 (v330 : BitVec 32) : Fin 5 → Nat :=
  let c1_1406 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2909 : Index := Scalar.indexCast v347
  let c103 : Index := 103#32
  let c0_1407 : Index := 0#32
  let c0_1408 : Index := 0#32
  ![1, v2909.toNat, 103, 0, 0]
def k0_off3003 (v1 : BitVec 32) (k0_t51 : Fin (k0_t51_loop v1).trips) (v228 : BitVec 32) (v257 : BitVec 32) (k0_t62 : Fin (k0_t62_loop v228 v257).trips) : Fin 5 → Nat :=
  let c1_1411 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2926 : Index := Scalar.indexCast v226
  let c103_1412 : Index := 103#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2927 : Index := Scalar.indexCast v382
  let c0_1413 : Index := 0#32
  ![1, v2926.toNat, 103, v2927.toNat, 0]
def k0_off3004 (v1 : BitVec 32) (k0_t51 : Fin (k0_t51_loop v1).trips) (v228 : BitVec 32) (v257 : BitVec 32) (k0_t62 : Fin (k0_t62_loop v228 v257).trips) : Fin 5 → Nat :=
  let c1_1414 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2931 : Index := Scalar.indexCast v226
  let c0_i32_433 : BitVec 32 := 0#32
  let c1_i32_435 : BitVec 32 := 1#32
  let arg19 : BitVec 32 := Scf.iv c0_i32_433 c1_i32_435 k0_t62
  let v2932 : Index := Scalar.indexCast arg19
  let c1664 : Index := 1664#32
  let c0_1415 : Index := 0#32
  ![1, v2931.toNat, v2932.toNat, 1664, 0]
def k0_off3005 (v330 : BitVec 32) : Fin 5 → Nat :=
  let c1_1416 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2936 : Index := Scalar.indexCast v347
  let c104 : Index := 104#32
  let c0_1417 : Index := 0#32
  let c0_1418 : Index := 0#32
  ![1, v2936.toNat, 104, 0, 0]
def k0_off3006 (v1 : BitVec 32) (k0_t51 : Fin (k0_t51_loop v1).trips) (v228 : BitVec 32) (v257 : BitVec 32) (k0_t62 : Fin (k0_t62_loop v228 v257).trips) : Fin 5 → Nat :=
  let c1_1421 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2953 : Index := Scalar.indexCast v226
  let c104_1422 : Index := 104#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2954 : Index := Scalar.indexCast v382
  let c0_1423 : Index := 0#32
  ![1, v2953.toNat, 104, v2954.toNat, 0]
def k0_off3007 (v330 : BitVec 32) : Fin 5 → Nat :=
  let c1_1424 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2958 : Index := Scalar.indexCast v347
  let c105 : Index := 105#32
  let c0_1425 : Index := 0#32
  let c0_1426 : Index := 0#32
  ![1, v2958.toNat, 105, 0, 0]
def k0_off3008 (v1 : BitVec 32) (k0_t51 : Fin (k0_t51_loop v1).trips) (v228 : BitVec 32) (v257 : BitVec 32) (k0_t62 : Fin (k0_t62_loop v228 v257).trips) : Fin 5 → Nat :=
  let c1_1429 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2975 : Index := Scalar.indexCast v226
  let c105_1430 : Index := 105#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v2976 : Index := Scalar.indexCast v382
  let c0_1431 : Index := 0#32
  ![1, v2975.toNat, 105, v2976.toNat, 0]
def k0_off3009 (v1 : BitVec 32) (k0_t51 : Fin (k0_t51_loop v1).trips) (v228 : BitVec 32) (v257 : BitVec 32) (k0_t62 : Fin (k0_t62_loop v228 v257).trips) : Fin 5 → Nat :=
  let c1_1432 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2980 : Index := Scalar.indexCast v226
  let c0_i32_433 : BitVec 32 := 0#32
  let c1_i32_435 : BitVec 32 := 1#32
  let arg19 : BitVec 32 := Scf.iv c0_i32_433 c1_i32_435 k0_t62
  let v2981 : Index := Scalar.indexCast arg19
  let c1696 : Index := 1696#32
  let c0_1433 : Index := 0#32
  ![1, v2980.toNat, v2981.toNat, 1696, 0]
def k0_off3010 (v330 : BitVec 32) : Fin 5 → Nat :=
  let c1_1434 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2985 : Index := Scalar.indexCast v347
  let c106 : Index := 106#32
  let c0_1435 : Index := 0#32
  let c0_1436 : Index := 0#32
  ![1, v2985.toNat, 106, 0, 0]
def k0_off3011 (v1 : BitVec 32) (k0_t51 : Fin (k0_t51_loop v1).trips) (v228 : BitVec 32) (v257 : BitVec 32) (k0_t62 : Fin (k0_t62_loop v228 v257).trips) : Fin 5 → Nat :=
  let c1_1439 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v3002 : Index := Scalar.indexCast v226
  let c106_1440 : Index := 106#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v3003 : Index := Scalar.indexCast v382
  let c0_1441 : Index := 0#32
  ![1, v3002.toNat, 106, v3003.toNat, 0]
def k0_off3012 (v330 : BitVec 32) : Fin 5 → Nat :=
  let c1_1442 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v3007 : Index := Scalar.indexCast v347
  let c107 : Index := 107#32
  let c0_1443 : Index := 0#32
  let c0_1444 : Index := 0#32
  ![1, v3007.toNat, 107, 0, 0]

def k0_chk42_0 (v330 : BitVec 32) : Prop :=
  (∀ a, (k0_off2745 v330) a + S1x1x1x8x128.size a ≤ S2x10x108x8x128.size a) ∧
  (∀ a, (k0_off2747 v330) a + S1x1x1x8x128.size a ≤ S2x10x108x8x128.size a) ∧
  (∀ a, (k0_off2750 v330) a + S1x1x1x8x128.size a ≤ S2x10x108x8x128.size a) ∧
  (∀ a, (k0_off2752 v330) a + S1x1x1x8x128.size a ≤ S2x10x108x8x128.size a) ∧
  (∀ a, (k0_off2755 v330) a + S1x1x1x8x128.size a ≤ S2x10x108x8x128.size a) ∧
  (∀ a, (k0_off2757 v330) a + S1x1x1x8x128.size a ≤ S2x10x108x8x128.size a) ∧
  (∀ a, (k0_off2760 v330) a + S1x1x1x8x128.size a ≤ S2x10x108x8x128.size a) ∧
  (∀ a, (k0_off2762 v330) a + S1x1x1x8x128.size a ≤ S2x10x108x8x128.size a) ∧
  (∀ a, (k0_off2765 v330) a + S1x1x1x8x128.size a ≤ S2x10x108x8x128.size a) ∧
  (∀ a, (k0_off2767 v330) a + S1x1x1x8x128.size a ≤ S2x10x108x8x128.size a) ∧
  (∀ a, (k0_off2770 v330) a + S1x1x1x8x128.size a ≤ S2x10x108x8x128.size a) ∧
  (∀ a, (k0_off2772 v330) a + S1x1x1x8x128.size a ≤ S2x10x108x8x128.size a) ∧
  (∀ a, (k0_off2775 v330) a + S1x1x1x8x128.size a ≤ S2x10x108x8x128.size a) ∧
  (∀ a, (k0_off2777 v330) a + S1x1x1x8x128.size a ≤ S2x10x108x8x128.size a) ∧
  (∀ a, (k0_off2780 v330) a + S1x1x1x8x128.size a ≤ S2x10x108x8x128.size a) ∧
  (∀ a, (k0_off2782 v330) a + S1x1x1x8x128.size a ≤ S2x10x108x8x128.size a) ∧
  (∀ a, (k0_off2785 v330) a + S1x1x1x8x128.size a ≤ S2x10x108x8x128.size a) ∧
  (∀ a, (k0_off2787 v330) a + S1x1x1x8x128.size a ≤ S2x10x108x8x128.size a) ∧
  (∀ a, (k0_off2790 v330) a + S1x1x1x8x128.size a ≤ S2x10x108x8x128.size a) ∧
  (∀ a, (k0_off2792 v330) a + S1x1x1x8x128.size a ≤ S2x10x108x8x128.size a) ∧
  (∀ a, (k0_off2795 v330) a + S1x1x1x8x128.size a ≤ S2x10x108x8x128.size a) ∧
  (∀ a, (k0_off2797 v330) a + S1x1x1x8x128.size a ≤ S2x10x108x8x128.size a) ∧
  (∀ a, (k0_off2800 v330) a + S1x1x1x8x128.size a ≤ S2x10x108x8x128.size a) ∧
  (∀ a, (k0_off2802 v330) a + S1x1x1x8x128.size a ≤ S2x10x108x8x128.size a) ∧
  (∀ a, (k0_off2805 v330) a + S1x1x1x8x128.size a ≤ S2x10x108x8x128.size a) ∧
  (∀ a, (k0_off2807 v330) a + S1x1x1x8x128.size a ≤ S2x10x108x8x128.size a) ∧
  (∀ a, (k0_off2810 v330) a + S1x1x1x8x128.size a ≤ S2x10x108x8x128.size a) ∧
  (∀ a, (k0_off2812 v330) a + S1x1x1x8x128.size a ≤ S2x10x108x8x128.size a) ∧
  (∀ a, (k0_off2815 v330) a + S1x1x1x8x128.size a ≤ S2x10x108x8x128.size a) ∧
  (∀ a, (k0_off2817 v330) a + S1x1x1x8x128.size a ≤ S2x10x108x8x128.size a) ∧
  (∀ a, (k0_off2820 v330) a + S1x1x1x8x128.size a ≤ S2x10x108x8x128.size a) ∧
  (∀ a, (k0_off2822 v330) a + S1x1x1x8x128.size a ≤ S2x10x108x8x128.size a)
def k0_chk42_1 (v330 : BitVec 32) : Prop :=
  (∀ a, (k0_off2825 v330) a + S1x1x1x8x128.size a ≤ S2x10x108x8x128.size a) ∧
  (∀ a, (k0_off2827 v330) a + S1x1x1x8x128.size a ≤ S2x10x108x8x128.size a) ∧
  (∀ a, (k0_off2830 v330) a + S1x1x1x8x128.size a ≤ S2x10x108x8x128.size a) ∧
  (∀ a, (k0_off2832 v330) a + S1x1x1x8x128.size a ≤ S2x10x108x8x128.size a) ∧
  (∀ a, (k0_off2835 v330) a + S1x1x1x8x128.size a ≤ S2x10x108x8x128.size a) ∧
  (∀ a, (k0_off2837 v330) a + S1x1x1x8x128.size a ≤ S2x10x108x8x128.size a) ∧
  (∀ a, (k0_off2840 v330) a + S1x1x1x8x128.size a ≤ S2x10x108x8x128.size a) ∧
  (∀ a, (k0_off2842 v330) a + S1x1x1x8x128.size a ≤ S2x10x108x8x128.size a) ∧
  (∀ a, (k0_off2845 v330) a + S1x1x1x8x128.size a ≤ S2x10x108x8x128.size a) ∧
  (∀ a, (k0_off2847 v330) a + S1x1x1x8x128.size a ≤ S2x10x108x8x128.size a) ∧
  (∀ a, (k0_off2850 v330) a + S1x1x1x8x128.size a ≤ S2x10x108x8x128.size a) ∧
  (∀ a, (k0_off2852 v330) a + S1x1x1x8x128.size a ≤ S2x10x108x8x128.size a) ∧
  (∀ a, (k0_off2855 v330) a + S1x1x1x8x128.size a ≤ S2x10x108x8x128.size a) ∧
  (∀ a, (k0_off2857 v330) a + S1x1x1x8x128.size a ≤ S2x10x108x8x128.size a) ∧
  (∀ a, (k0_off2860 v330) a + S1x1x1x8x128.size a ≤ S2x10x108x8x128.size a) ∧
  (∀ a, (k0_off2862 v330) a + S1x1x1x8x128.size a ≤ S2x10x108x8x128.size a) ∧
  (∀ a, (k0_off2865 v330) a + S1x1x1x8x128.size a ≤ S2x10x108x8x128.size a) ∧
  (∀ a, (k0_off2867 v330) a + S1x1x1x8x128.size a ≤ S2x10x108x8x128.size a) ∧
  (∀ a, (k0_off2870 v330) a + S1x1x1x8x128.size a ≤ S2x10x108x8x128.size a) ∧
  (∀ a, (k0_off2872 v330) a + S1x1x1x8x128.size a ≤ S2x10x108x8x128.size a) ∧
  (∀ a, (k0_off2875 v330) a + S1x1x1x8x128.size a ≤ S2x10x108x8x128.size a) ∧
  (∀ a, (k0_off2877 v330) a + S1x1x1x8x128.size a ≤ S2x10x108x8x128.size a) ∧
  (∀ a, (k0_off2880 v330) a + S1x1x1x8x128.size a ≤ S2x10x108x8x128.size a) ∧
  (∀ a, (k0_off2882 v330) a + S1x1x1x8x128.size a ≤ S2x10x108x8x128.size a) ∧
  (∀ a, (k0_off2885 v330) a + S1x1x1x8x128.size a ≤ S2x10x108x8x128.size a) ∧
  (∀ a, (k0_off2887 v330) a + S1x1x1x8x128.size a ≤ S2x10x108x8x128.size a) ∧
  (∀ a, (k0_off2890 v330) a + S1x1x1x8x128.size a ≤ S2x10x108x8x128.size a) ∧
  (∀ a, (k0_off2892 v330) a + S1x1x1x8x128.size a ≤ S2x10x108x8x128.size a) ∧
  (∀ a, (k0_off2895 v330) a + S1x1x1x8x128.size a ≤ S2x10x108x8x128.size a) ∧
  (∀ a, (k0_off2897 v330) a + S1x1x1x8x128.size a ≤ S2x10x108x8x128.size a) ∧
  (∀ a, (k0_off2900 v330) a + S1x1x1x8x128.size a ≤ S2x10x108x8x128.size a) ∧
  (∀ a, (k0_off2902 v330) a + S1x1x1x8x128.size a ≤ S2x10x108x8x128.size a)
def k0_chk42_2 (v330 : BitVec 32) : Prop :=
  (∀ a, (k0_off2905 v330) a + S1x1x1x8x128.size a ≤ S2x10x108x8x128.size a) ∧
  (∀ a, (k0_off2907 v330) a + S1x1x1x8x128.size a ≤ S2x10x108x8x128.size a) ∧
  (∀ a, (k0_off2910 v330) a + S1x1x1x8x128.size a ≤ S2x10x108x8x128.size a) ∧
  (∀ a, (k0_off2912 v330) a + S1x1x1x8x128.size a ≤ S2x10x108x8x128.size a) ∧
  (∀ a, (k0_off2915 v330) a + S1x1x1x8x128.size a ≤ S2x10x108x8x128.size a) ∧
  (∀ a, (k0_off2917 v330) a + S1x1x1x8x128.size a ≤ S2x10x108x8x128.size a) ∧
  (∀ a, (k0_off2920 v330) a + S1x1x1x8x128.size a ≤ S2x10x108x8x128.size a) ∧
  (∀ a, (k0_off2922 v330) a + S1x1x1x8x128.size a ≤ S2x10x108x8x128.size a) ∧
  (∀ a, (k0_off2925 v330) a + S1x1x1x8x128.size a ≤ S2x10x108x8x128.size a) ∧
  (∀ a, (k0_off2927 v330) a + S1x1x1x8x128.size a ≤ S2x10x108x8x128.size a) ∧
  (∀ a, (k0_off2930 v330) a + S1x1x1x8x128.size a ≤ S2x10x108x8x128.size a) ∧
  (∀ a, (k0_off2932 v330) a + S1x1x1x8x128.size a ≤ S2x10x108x8x128.size a) ∧
  (∀ a, (k0_off2935 v330) a + S1x1x1x8x128.size a ≤ S2x10x108x8x128.size a) ∧
  (∀ a, (k0_off2937 v330) a + S1x1x1x8x128.size a ≤ S2x10x108x8x128.size a) ∧
  (∀ a, (k0_off2940 v330) a + S1x1x1x8x128.size a ≤ S2x10x108x8x128.size a) ∧
  (∀ a, (k0_off2942 v330) a + S1x1x1x8x128.size a ≤ S2x10x108x8x128.size a) ∧
  (∀ a, (k0_off2945 v330) a + S1x1x1x8x128.size a ≤ S2x10x108x8x128.size a) ∧
  (∀ a, (k0_off2947 v330) a + S1x1x1x8x128.size a ≤ S2x10x108x8x128.size a) ∧
  (∀ a, (k0_off2950 v330) a + S1x1x1x8x128.size a ≤ S2x10x108x8x128.size a) ∧
  (∀ a, (k0_off2952 v330) a + S1x1x1x8x128.size a ≤ S2x10x108x8x128.size a) ∧
  (∀ a, (k0_off2955 v330) a + S1x1x1x8x128.size a ≤ S2x10x108x8x128.size a) ∧
  (∀ a, (k0_off2957 v330) a + S1x1x1x8x128.size a ≤ S2x10x108x8x128.size a) ∧
  (∀ a, (k0_off2960 v330) a + S1x1x1x8x128.size a ≤ S2x10x108x8x128.size a) ∧
  (∀ a, (k0_off2962 v330) a + S1x1x1x8x128.size a ≤ S2x10x108x8x128.size a) ∧
  (∀ a, (k0_off2965 v330) a + S1x1x1x8x128.size a ≤ S2x10x108x8x128.size a) ∧
  (∀ a, (k0_off2967 v330) a + S1x1x1x8x128.size a ≤ S2x10x108x8x128.size a) ∧
  (∀ a, (k0_off2970 v330) a + S1x1x1x8x128.size a ≤ S2x10x108x8x128.size a) ∧
  (∀ a, (k0_off2972 v330) a + S1x1x1x8x128.size a ≤ S2x10x108x8x128.size a) ∧
  (∀ a, (k0_off2975 v330) a + S1x1x1x8x128.size a ≤ S2x10x108x8x128.size a) ∧
  (∀ a, (k0_off2977 v330) a + S1x1x1x8x128.size a ≤ S2x10x108x8x128.size a) ∧
  (∀ a, (k0_off2980 v330) a + S1x1x1x8x128.size a ≤ S2x10x108x8x128.size a) ∧
  (∀ a, (k0_off2982 v330) a + S1x1x1x8x128.size a ≤ S2x10x108x8x128.size a)
def k0_chk42_3 (v330 : BitVec 32) : Prop :=
  (∀ a, (k0_off2985 v330) a + S1x1x1x8x128.size a ≤ S2x10x108x8x128.size a) ∧
  (∀ a, (k0_off2987 v330) a + S1x1x1x8x128.size a ≤ S2x10x108x8x128.size a) ∧
  (∀ a, (k0_off2990 v330) a + S1x1x1x8x128.size a ≤ S2x10x108x8x128.size a) ∧
  (∀ a, (k0_off2992 v330) a + S1x1x1x8x128.size a ≤ S2x10x108x8x128.size a) ∧
  (∀ a, (k0_off2995 v330) a + S1x1x1x8x128.size a ≤ S2x10x108x8x128.size a) ∧
  (∀ a, (k0_off2997 v330) a + S1x1x1x8x128.size a ≤ S2x10x108x8x128.size a) ∧
  (∀ a, (k0_off3000 v330) a + S1x1x1x8x128.size a ≤ S2x10x108x8x128.size a) ∧
  (∀ a, (k0_off3002 v330) a + S1x1x1x8x128.size a ≤ S2x10x108x8x128.size a) ∧
  (∀ a, (k0_off3005 v330) a + S1x1x1x8x128.size a ≤ S2x10x108x8x128.size a) ∧
  (∀ a, (k0_off3007 v330) a + S1x1x1x8x128.size a ≤ S2x10x108x8x128.size a) ∧
  (∀ a, (k0_off3010 v330) a + S1x1x1x8x128.size a ≤ S2x10x108x8x128.size a) ∧
  (∀ a, (k0_off3012 v330) a + S1x1x1x8x128.size a ≤ S2x10x108x8x128.size a)
def k0_chk42 (v330 : BitVec 32) : Prop :=
  k0_chk42_0 v330 ∧
  k0_chk42_1 v330 ∧
  k0_chk42_2 v330 ∧
  k0_chk42_3 v330
theorem k0_off2745_inb : ∀ (v330 : BitVec 32) (k0_hw42 : k0_chk42 v330), ∀ a, (k0_off2745 v330) a + S1x1x1x8x128.size a ≤ S2x10x108x8x128.size a := fun v330 k0_hw42 => k0_hw42.1.1
theorem k0_off2747_inb : ∀ (v330 : BitVec 32) (k0_hw42 : k0_chk42 v330), ∀ a, (k0_off2747 v330) a + S1x1x1x8x128.size a ≤ S2x10x108x8x128.size a := fun v330 k0_hw42 => k0_hw42.1.2.1
theorem k0_off2750_inb : ∀ (v330 : BitVec 32) (k0_hw42 : k0_chk42 v330), ∀ a, (k0_off2750 v330) a + S1x1x1x8x128.size a ≤ S2x10x108x8x128.size a := fun v330 k0_hw42 => k0_hw42.1.2.2.1
theorem k0_off2752_inb : ∀ (v330 : BitVec 32) (k0_hw42 : k0_chk42 v330), ∀ a, (k0_off2752 v330) a + S1x1x1x8x128.size a ≤ S2x10x108x8x128.size a := fun v330 k0_hw42 => k0_hw42.1.2.2.2.1
theorem k0_off2755_inb : ∀ (v330 : BitVec 32) (k0_hw42 : k0_chk42 v330), ∀ a, (k0_off2755 v330) a + S1x1x1x8x128.size a ≤ S2x10x108x8x128.size a := fun v330 k0_hw42 => k0_hw42.1.2.2.2.2.1
theorem k0_off2757_inb : ∀ (v330 : BitVec 32) (k0_hw42 : k0_chk42 v330), ∀ a, (k0_off2757 v330) a + S1x1x1x8x128.size a ≤ S2x10x108x8x128.size a := fun v330 k0_hw42 => k0_hw42.1.2.2.2.2.2.1
theorem k0_off2760_inb : ∀ (v330 : BitVec 32) (k0_hw42 : k0_chk42 v330), ∀ a, (k0_off2760 v330) a + S1x1x1x8x128.size a ≤ S2x10x108x8x128.size a := fun v330 k0_hw42 => k0_hw42.1.2.2.2.2.2.2.1
theorem k0_off2762_inb : ∀ (v330 : BitVec 32) (k0_hw42 : k0_chk42 v330), ∀ a, (k0_off2762 v330) a + S1x1x1x8x128.size a ≤ S2x10x108x8x128.size a := fun v330 k0_hw42 => k0_hw42.1.2.2.2.2.2.2.2.1
theorem k0_off2765_inb : ∀ (v330 : BitVec 32) (k0_hw42 : k0_chk42 v330), ∀ a, (k0_off2765 v330) a + S1x1x1x8x128.size a ≤ S2x10x108x8x128.size a := fun v330 k0_hw42 => k0_hw42.1.2.2.2.2.2.2.2.2.1
theorem k0_off2767_inb : ∀ (v330 : BitVec 32) (k0_hw42 : k0_chk42 v330), ∀ a, (k0_off2767 v330) a + S1x1x1x8x128.size a ≤ S2x10x108x8x128.size a := fun v330 k0_hw42 => k0_hw42.1.2.2.2.2.2.2.2.2.2.1
theorem k0_off2770_inb : ∀ (v330 : BitVec 32) (k0_hw42 : k0_chk42 v330), ∀ a, (k0_off2770 v330) a + S1x1x1x8x128.size a ≤ S2x10x108x8x128.size a := fun v330 k0_hw42 => k0_hw42.1.2.2.2.2.2.2.2.2.2.2.1
theorem k0_off2772_inb : ∀ (v330 : BitVec 32) (k0_hw42 : k0_chk42 v330), ∀ a, (k0_off2772 v330) a + S1x1x1x8x128.size a ≤ S2x10x108x8x128.size a := fun v330 k0_hw42 => k0_hw42.1.2.2.2.2.2.2.2.2.2.2.2.1
theorem k0_off2775_inb : ∀ (v330 : BitVec 32) (k0_hw42 : k0_chk42 v330), ∀ a, (k0_off2775 v330) a + S1x1x1x8x128.size a ≤ S2x10x108x8x128.size a := fun v330 k0_hw42 => k0_hw42.1.2.2.2.2.2.2.2.2.2.2.2.2.1
theorem k0_off2777_inb : ∀ (v330 : BitVec 32) (k0_hw42 : k0_chk42 v330), ∀ a, (k0_off2777 v330) a + S1x1x1x8x128.size a ≤ S2x10x108x8x128.size a := fun v330 k0_hw42 => k0_hw42.1.2.2.2.2.2.2.2.2.2.2.2.2.2.1
theorem k0_off2780_inb : ∀ (v330 : BitVec 32) (k0_hw42 : k0_chk42 v330), ∀ a, (k0_off2780 v330) a + S1x1x1x8x128.size a ≤ S2x10x108x8x128.size a := fun v330 k0_hw42 => k0_hw42.1.2.2.2.2.2.2.2.2.2.2.2.2.2.2.1
theorem k0_off2782_inb : ∀ (v330 : BitVec 32) (k0_hw42 : k0_chk42 v330), ∀ a, (k0_off2782 v330) a + S1x1x1x8x128.size a ≤ S2x10x108x8x128.size a := fun v330 k0_hw42 => k0_hw42.1.2.2.2.2.2.2.2.2.2.2.2.2.2.2.2.1
theorem k0_off2785_inb : ∀ (v330 : BitVec 32) (k0_hw42 : k0_chk42 v330), ∀ a, (k0_off2785 v330) a + S1x1x1x8x128.size a ≤ S2x10x108x8x128.size a := fun v330 k0_hw42 => k0_hw42.1.2.2.2.2.2.2.2.2.2.2.2.2.2.2.2.2.1
theorem k0_off2787_inb : ∀ (v330 : BitVec 32) (k0_hw42 : k0_chk42 v330), ∀ a, (k0_off2787 v330) a + S1x1x1x8x128.size a ≤ S2x10x108x8x128.size a := fun v330 k0_hw42 => k0_hw42.1.2.2.2.2.2.2.2.2.2.2.2.2.2.2.2.2.2.1
theorem k0_off2790_inb : ∀ (v330 : BitVec 32) (k0_hw42 : k0_chk42 v330), ∀ a, (k0_off2790 v330) a + S1x1x1x8x128.size a ≤ S2x10x108x8x128.size a := fun v330 k0_hw42 => k0_hw42.1.2.2.2.2.2.2.2.2.2.2.2.2.2.2.2.2.2.2.1
theorem k0_off2792_inb : ∀ (v330 : BitVec 32) (k0_hw42 : k0_chk42 v330), ∀ a, (k0_off2792 v330) a + S1x1x1x8x128.size a ≤ S2x10x108x8x128.size a := fun v330 k0_hw42 => k0_hw42.1.2.2.2.2.2.2.2.2.2.2.2.2.2.2.2.2.2.2.2.1
theorem k0_off2795_inb : ∀ (v330 : BitVec 32) (k0_hw42 : k0_chk42 v330), ∀ a, (k0_off2795 v330) a + S1x1x1x8x128.size a ≤ S2x10x108x8x128.size a := fun v330 k0_hw42 => k0_hw42.1.2.2.2.2.2.2.2.2.2.2.2.2.2.2.2.2.2.2.2.2.1
theorem k0_off2797_inb : ∀ (v330 : BitVec 32) (k0_hw42 : k0_chk42 v330), ∀ a, (k0_off2797 v330) a + S1x1x1x8x128.size a ≤ S2x10x108x8x128.size a := fun v330 k0_hw42 => k0_hw42.1.2.2.2.2.2.2.2.2.2.2.2.2.2.2.2.2.2.2.2.2.2.1
theorem k0_off2800_inb : ∀ (v330 : BitVec 32) (k0_hw42 : k0_chk42 v330), ∀ a, (k0_off2800 v330) a + S1x1x1x8x128.size a ≤ S2x10x108x8x128.size a := fun v330 k0_hw42 => k0_hw42.1.2.2.2.2.2.2.2.2.2.2.2.2.2.2.2.2.2.2.2.2.2.2.1
theorem k0_off2802_inb : ∀ (v330 : BitVec 32) (k0_hw42 : k0_chk42 v330), ∀ a, (k0_off2802 v330) a + S1x1x1x8x128.size a ≤ S2x10x108x8x128.size a := fun v330 k0_hw42 => k0_hw42.1.2.2.2.2.2.2.2.2.2.2.2.2.2.2.2.2.2.2.2.2.2.2.2.1
theorem k0_off2805_inb : ∀ (v330 : BitVec 32) (k0_hw42 : k0_chk42 v330), ∀ a, (k0_off2805 v330) a + S1x1x1x8x128.size a ≤ S2x10x108x8x128.size a := fun v330 k0_hw42 => k0_hw42.1.2.2.2.2.2.2.2.2.2.2.2.2.2.2.2.2.2.2.2.2.2.2.2.2.1
theorem k0_off2807_inb : ∀ (v330 : BitVec 32) (k0_hw42 : k0_chk42 v330), ∀ a, (k0_off2807 v330) a + S1x1x1x8x128.size a ≤ S2x10x108x8x128.size a := fun v330 k0_hw42 => k0_hw42.1.2.2.2.2.2.2.2.2.2.2.2.2.2.2.2.2.2.2.2.2.2.2.2.2.2.1
theorem k0_off2810_inb : ∀ (v330 : BitVec 32) (k0_hw42 : k0_chk42 v330), ∀ a, (k0_off2810 v330) a + S1x1x1x8x128.size a ≤ S2x10x108x8x128.size a := fun v330 k0_hw42 => k0_hw42.1.2.2.2.2.2.2.2.2.2.2.2.2.2.2.2.2.2.2.2.2.2.2.2.2.2.2.1
theorem k0_off2812_inb : ∀ (v330 : BitVec 32) (k0_hw42 : k0_chk42 v330), ∀ a, (k0_off2812 v330) a + S1x1x1x8x128.size a ≤ S2x10x108x8x128.size a := fun v330 k0_hw42 => k0_hw42.1.2.2.2.2.2.2.2.2.2.2.2.2.2.2.2.2.2.2.2.2.2.2.2.2.2.2.2.1
theorem k0_off2815_inb : ∀ (v330 : BitVec 32) (k0_hw42 : k0_chk42 v330), ∀ a, (k0_off2815 v330) a + S1x1x1x8x128.size a ≤ S2x10x108x8x128.size a := fun v330 k0_hw42 => k0_hw42.1.2.2.2.2.2.2.2.2.2.2.2.2.2.2.2.2.2.2.2.2.2.2.2.2.2.2.2.2.1
theorem k0_off2817_inb : ∀ (v330 : BitVec 32) (k0_hw42 : k0_chk42 v330), ∀ a, (k0_off2817 v330) a + S1x1x1x8x128.size a ≤ S2x10x108x8x128.size a := fun v330 k0_hw42 => k0_hw42.1.2.2.2.2.2.2.2.2.2.2.2.2.2.2.2.2.2.2.2.2.2.2.2.2.2.2.2.2.2.1
theorem k0_off2820_inb : ∀ (v330 : BitVec 32) (k0_hw42 : k0_chk42 v330), ∀ a, (k0_off2820 v330) a + S1x1x1x8x128.size a ≤ S2x10x108x8x128.size a := fun v330 k0_hw42 => k0_hw42.1.2.2.2.2.2.2.2.2.2.2.2.2.2.2.2.2.2.2.2.2.2.2.2.2.2.2.2.2.2.2.1
theorem k0_off2822_inb : ∀ (v330 : BitVec 32) (k0_hw42 : k0_chk42 v330), ∀ a, (k0_off2822 v330) a + S1x1x1x8x128.size a ≤ S2x10x108x8x128.size a := fun v330 k0_hw42 => k0_hw42.1.2.2.2.2.2.2.2.2.2.2.2.2.2.2.2.2.2.2.2.2.2.2.2.2.2.2.2.2.2.2.2
theorem k0_off2825_inb : ∀ (v330 : BitVec 32) (k0_hw42 : k0_chk42 v330), ∀ a, (k0_off2825 v330) a + S1x1x1x8x128.size a ≤ S2x10x108x8x128.size a := fun v330 k0_hw42 => k0_hw42.2.1.1
theorem k0_off2827_inb : ∀ (v330 : BitVec 32) (k0_hw42 : k0_chk42 v330), ∀ a, (k0_off2827 v330) a + S1x1x1x8x128.size a ≤ S2x10x108x8x128.size a := fun v330 k0_hw42 => k0_hw42.2.1.2.1
theorem k0_off2830_inb : ∀ (v330 : BitVec 32) (k0_hw42 : k0_chk42 v330), ∀ a, (k0_off2830 v330) a + S1x1x1x8x128.size a ≤ S2x10x108x8x128.size a := fun v330 k0_hw42 => k0_hw42.2.1.2.2.1
theorem k0_off2832_inb : ∀ (v330 : BitVec 32) (k0_hw42 : k0_chk42 v330), ∀ a, (k0_off2832 v330) a + S1x1x1x8x128.size a ≤ S2x10x108x8x128.size a := fun v330 k0_hw42 => k0_hw42.2.1.2.2.2.1
theorem k0_off2835_inb : ∀ (v330 : BitVec 32) (k0_hw42 : k0_chk42 v330), ∀ a, (k0_off2835 v330) a + S1x1x1x8x128.size a ≤ S2x10x108x8x128.size a := fun v330 k0_hw42 => k0_hw42.2.1.2.2.2.2.1
theorem k0_off2837_inb : ∀ (v330 : BitVec 32) (k0_hw42 : k0_chk42 v330), ∀ a, (k0_off2837 v330) a + S1x1x1x8x128.size a ≤ S2x10x108x8x128.size a := fun v330 k0_hw42 => k0_hw42.2.1.2.2.2.2.2.1
theorem k0_off2840_inb : ∀ (v330 : BitVec 32) (k0_hw42 : k0_chk42 v330), ∀ a, (k0_off2840 v330) a + S1x1x1x8x128.size a ≤ S2x10x108x8x128.size a := fun v330 k0_hw42 => k0_hw42.2.1.2.2.2.2.2.2.1
theorem k0_off2842_inb : ∀ (v330 : BitVec 32) (k0_hw42 : k0_chk42 v330), ∀ a, (k0_off2842 v330) a + S1x1x1x8x128.size a ≤ S2x10x108x8x128.size a := fun v330 k0_hw42 => k0_hw42.2.1.2.2.2.2.2.2.2.1
theorem k0_off2845_inb : ∀ (v330 : BitVec 32) (k0_hw42 : k0_chk42 v330), ∀ a, (k0_off2845 v330) a + S1x1x1x8x128.size a ≤ S2x10x108x8x128.size a := fun v330 k0_hw42 => k0_hw42.2.1.2.2.2.2.2.2.2.2.1
theorem k0_off2847_inb : ∀ (v330 : BitVec 32) (k0_hw42 : k0_chk42 v330), ∀ a, (k0_off2847 v330) a + S1x1x1x8x128.size a ≤ S2x10x108x8x128.size a := fun v330 k0_hw42 => k0_hw42.2.1.2.2.2.2.2.2.2.2.2.1
theorem k0_off2850_inb : ∀ (v330 : BitVec 32) (k0_hw42 : k0_chk42 v330), ∀ a, (k0_off2850 v330) a + S1x1x1x8x128.size a ≤ S2x10x108x8x128.size a := fun v330 k0_hw42 => k0_hw42.2.1.2.2.2.2.2.2.2.2.2.2.1
theorem k0_off2852_inb : ∀ (v330 : BitVec 32) (k0_hw42 : k0_chk42 v330), ∀ a, (k0_off2852 v330) a + S1x1x1x8x128.size a ≤ S2x10x108x8x128.size a := fun v330 k0_hw42 => k0_hw42.2.1.2.2.2.2.2.2.2.2.2.2.2.1
theorem k0_off2855_inb : ∀ (v330 : BitVec 32) (k0_hw42 : k0_chk42 v330), ∀ a, (k0_off2855 v330) a + S1x1x1x8x128.size a ≤ S2x10x108x8x128.size a := fun v330 k0_hw42 => k0_hw42.2.1.2.2.2.2.2.2.2.2.2.2.2.2.1
theorem k0_off2857_inb : ∀ (v330 : BitVec 32) (k0_hw42 : k0_chk42 v330), ∀ a, (k0_off2857 v330) a + S1x1x1x8x128.size a ≤ S2x10x108x8x128.size a := fun v330 k0_hw42 => k0_hw42.2.1.2.2.2.2.2.2.2.2.2.2.2.2.2.1
theorem k0_off2860_inb : ∀ (v330 : BitVec 32) (k0_hw42 : k0_chk42 v330), ∀ a, (k0_off2860 v330) a + S1x1x1x8x128.size a ≤ S2x10x108x8x128.size a := fun v330 k0_hw42 => k0_hw42.2.1.2.2.2.2.2.2.2.2.2.2.2.2.2.2.1
theorem k0_off2862_inb : ∀ (v330 : BitVec 32) (k0_hw42 : k0_chk42 v330), ∀ a, (k0_off2862 v330) a + S1x1x1x8x128.size a ≤ S2x10x108x8x128.size a := fun v330 k0_hw42 => k0_hw42.2.1.2.2.2.2.2.2.2.2.2.2.2.2.2.2.2.1
theorem k0_off2865_inb : ∀ (v330 : BitVec 32) (k0_hw42 : k0_chk42 v330), ∀ a, (k0_off2865 v330) a + S1x1x1x8x128.size a ≤ S2x10x108x8x128.size a := fun v330 k0_hw42 => k0_hw42.2.1.2.2.2.2.2.2.2.2.2.2.2.2.2.2.2.2.1
theorem k0_off2867_inb : ∀ (v330 : BitVec 32) (k0_hw42 : k0_chk42 v330), ∀ a, (k0_off2867 v330) a + S1x1x1x8x128.size a ≤ S2x10x108x8x128.size a := fun v330 k0_hw42 => k0_hw42.2.1.2.2.2.2.2.2.2.2.2.2.2.2.2.2.2.2.2.1
theorem k0_off2870_inb : ∀ (v330 : BitVec 32) (k0_hw42 : k0_chk42 v330), ∀ a, (k0_off2870 v330) a + S1x1x1x8x128.size a ≤ S2x10x108x8x128.size a := fun v330 k0_hw42 => k0_hw42.2.1.2.2.2.2.2.2.2.2.2.2.2.2.2.2.2.2.2.2.1
theorem k0_off2872_inb : ∀ (v330 : BitVec 32) (k0_hw42 : k0_chk42 v330), ∀ a, (k0_off2872 v330) a + S1x1x1x8x128.size a ≤ S2x10x108x8x128.size a := fun v330 k0_hw42 => k0_hw42.2.1.2.2.2.2.2.2.2.2.2.2.2.2.2.2.2.2.2.2.2.1
theorem k0_off2875_inb : ∀ (v330 : BitVec 32) (k0_hw42 : k0_chk42 v330), ∀ a, (k0_off2875 v330) a + S1x1x1x8x128.size a ≤ S2x10x108x8x128.size a := fun v330 k0_hw42 => k0_hw42.2.1.2.2.2.2.2.2.2.2.2.2.2.2.2.2.2.2.2.2.2.2.1
theorem k0_off2877_inb : ∀ (v330 : BitVec 32) (k0_hw42 : k0_chk42 v330), ∀ a, (k0_off2877 v330) a + S1x1x1x8x128.size a ≤ S2x10x108x8x128.size a := fun v330 k0_hw42 => k0_hw42.2.1.2.2.2.2.2.2.2.2.2.2.2.2.2.2.2.2.2.2.2.2.2.1
theorem k0_off2880_inb : ∀ (v330 : BitVec 32) (k0_hw42 : k0_chk42 v330), ∀ a, (k0_off2880 v330) a + S1x1x1x8x128.size a ≤ S2x10x108x8x128.size a := fun v330 k0_hw42 => k0_hw42.2.1.2.2.2.2.2.2.2.2.2.2.2.2.2.2.2.2.2.2.2.2.2.2.1
theorem k0_off2882_inb : ∀ (v330 : BitVec 32) (k0_hw42 : k0_chk42 v330), ∀ a, (k0_off2882 v330) a + S1x1x1x8x128.size a ≤ S2x10x108x8x128.size a := fun v330 k0_hw42 => k0_hw42.2.1.2.2.2.2.2.2.2.2.2.2.2.2.2.2.2.2.2.2.2.2.2.2.2.1
theorem k0_off2885_inb : ∀ (v330 : BitVec 32) (k0_hw42 : k0_chk42 v330), ∀ a, (k0_off2885 v330) a + S1x1x1x8x128.size a ≤ S2x10x108x8x128.size a := fun v330 k0_hw42 => k0_hw42.2.1.2.2.2.2.2.2.2.2.2.2.2.2.2.2.2.2.2.2.2.2.2.2.2.2.1
theorem k0_off2887_inb : ∀ (v330 : BitVec 32) (k0_hw42 : k0_chk42 v330), ∀ a, (k0_off2887 v330) a + S1x1x1x8x128.size a ≤ S2x10x108x8x128.size a := fun v330 k0_hw42 => k0_hw42.2.1.2.2.2.2.2.2.2.2.2.2.2.2.2.2.2.2.2.2.2.2.2.2.2.2.2.1
theorem k0_off2890_inb : ∀ (v330 : BitVec 32) (k0_hw42 : k0_chk42 v330), ∀ a, (k0_off2890 v330) a + S1x1x1x8x128.size a ≤ S2x10x108x8x128.size a := fun v330 k0_hw42 => k0_hw42.2.1.2.2.2.2.2.2.2.2.2.2.2.2.2.2.2.2.2.2.2.2.2.2.2.2.2.2.1
theorem k0_off2892_inb : ∀ (v330 : BitVec 32) (k0_hw42 : k0_chk42 v330), ∀ a, (k0_off2892 v330) a + S1x1x1x8x128.size a ≤ S2x10x108x8x128.size a := fun v330 k0_hw42 => k0_hw42.2.1.2.2.2.2.2.2.2.2.2.2.2.2.2.2.2.2.2.2.2.2.2.2.2.2.2.2.2.1
theorem k0_off2895_inb : ∀ (v330 : BitVec 32) (k0_hw42 : k0_chk42 v330), ∀ a, (k0_off2895 v330) a + S1x1x1x8x128.size a ≤ S2x10x108x8x128.size a := fun v330 k0_hw42 => k0_hw42.2.1.2.2.2.2.2.2.2.2.2.2.2.2.2.2.2.2.2.2.2.2.2.2.2.2.2.2.2.2.1
theorem k0_off2897_inb : ∀ (v330 : BitVec 32) (k0_hw42 : k0_chk42 v330), ∀ a, (k0_off2897 v330) a + S1x1x1x8x128.size a ≤ S2x10x108x8x128.size a := fun v330 k0_hw42 => k0_hw42.2.1.2.2.2.2.2.2.2.2.2.2.2.2.2.2.2.2.2.2.2.2.2.2.2.2.2.2.2.2.2.1
theorem k0_off2900_inb : ∀ (v330 : BitVec 32) (k0_hw42 : k0_chk42 v330), ∀ a, (k0_off2900 v330) a + S1x1x1x8x128.size a ≤ S2x10x108x8x128.size a := fun v330 k0_hw42 => k0_hw42.2.1.2.2.2.2.2.2.2.2.2.2.2.2.2.2.2.2.2.2.2.2.2.2.2.2.2.2.2.2.2.2.1
theorem k0_off2902_inb : ∀ (v330 : BitVec 32) (k0_hw42 : k0_chk42 v330), ∀ a, (k0_off2902 v330) a + S1x1x1x8x128.size a ≤ S2x10x108x8x128.size a := fun v330 k0_hw42 => k0_hw42.2.1.2.2.2.2.2.2.2.2.2.2.2.2.2.2.2.2.2.2.2.2.2.2.2.2.2.2.2.2.2.2.2
theorem k0_off2905_inb : ∀ (v330 : BitVec 32) (k0_hw42 : k0_chk42 v330), ∀ a, (k0_off2905 v330) a + S1x1x1x8x128.size a ≤ S2x10x108x8x128.size a := fun v330 k0_hw42 => k0_hw42.2.2.1.1
theorem k0_off2907_inb : ∀ (v330 : BitVec 32) (k0_hw42 : k0_chk42 v330), ∀ a, (k0_off2907 v330) a + S1x1x1x8x128.size a ≤ S2x10x108x8x128.size a := fun v330 k0_hw42 => k0_hw42.2.2.1.2.1
theorem k0_off2910_inb : ∀ (v330 : BitVec 32) (k0_hw42 : k0_chk42 v330), ∀ a, (k0_off2910 v330) a + S1x1x1x8x128.size a ≤ S2x10x108x8x128.size a := fun v330 k0_hw42 => k0_hw42.2.2.1.2.2.1
theorem k0_off2912_inb : ∀ (v330 : BitVec 32) (k0_hw42 : k0_chk42 v330), ∀ a, (k0_off2912 v330) a + S1x1x1x8x128.size a ≤ S2x10x108x8x128.size a := fun v330 k0_hw42 => k0_hw42.2.2.1.2.2.2.1
theorem k0_off2915_inb : ∀ (v330 : BitVec 32) (k0_hw42 : k0_chk42 v330), ∀ a, (k0_off2915 v330) a + S1x1x1x8x128.size a ≤ S2x10x108x8x128.size a := fun v330 k0_hw42 => k0_hw42.2.2.1.2.2.2.2.1
theorem k0_off2917_inb : ∀ (v330 : BitVec 32) (k0_hw42 : k0_chk42 v330), ∀ a, (k0_off2917 v330) a + S1x1x1x8x128.size a ≤ S2x10x108x8x128.size a := fun v330 k0_hw42 => k0_hw42.2.2.1.2.2.2.2.2.1
theorem k0_off2920_inb : ∀ (v330 : BitVec 32) (k0_hw42 : k0_chk42 v330), ∀ a, (k0_off2920 v330) a + S1x1x1x8x128.size a ≤ S2x10x108x8x128.size a := fun v330 k0_hw42 => k0_hw42.2.2.1.2.2.2.2.2.2.1
theorem k0_off2922_inb : ∀ (v330 : BitVec 32) (k0_hw42 : k0_chk42 v330), ∀ a, (k0_off2922 v330) a + S1x1x1x8x128.size a ≤ S2x10x108x8x128.size a := fun v330 k0_hw42 => k0_hw42.2.2.1.2.2.2.2.2.2.2.1
theorem k0_off2925_inb : ∀ (v330 : BitVec 32) (k0_hw42 : k0_chk42 v330), ∀ a, (k0_off2925 v330) a + S1x1x1x8x128.size a ≤ S2x10x108x8x128.size a := fun v330 k0_hw42 => k0_hw42.2.2.1.2.2.2.2.2.2.2.2.1
theorem k0_off2927_inb : ∀ (v330 : BitVec 32) (k0_hw42 : k0_chk42 v330), ∀ a, (k0_off2927 v330) a + S1x1x1x8x128.size a ≤ S2x10x108x8x128.size a := fun v330 k0_hw42 => k0_hw42.2.2.1.2.2.2.2.2.2.2.2.2.1
theorem k0_off2930_inb : ∀ (v330 : BitVec 32) (k0_hw42 : k0_chk42 v330), ∀ a, (k0_off2930 v330) a + S1x1x1x8x128.size a ≤ S2x10x108x8x128.size a := fun v330 k0_hw42 => k0_hw42.2.2.1.2.2.2.2.2.2.2.2.2.2.1
theorem k0_off2932_inb : ∀ (v330 : BitVec 32) (k0_hw42 : k0_chk42 v330), ∀ a, (k0_off2932 v330) a + S1x1x1x8x128.size a ≤ S2x10x108x8x128.size a := fun v330 k0_hw42 => k0_hw42.2.2.1.2.2.2.2.2.2.2.2.2.2.2.1
theorem k0_off2935_inb : ∀ (v330 : BitVec 32) (k0_hw42 : k0_chk42 v330), ∀ a, (k0_off2935 v330) a + S1x1x1x8x128.size a ≤ S2x10x108x8x128.size a := fun v330 k0_hw42 => k0_hw42.2.2.1.2.2.2.2.2.2.2.2.2.2.2.2.1
theorem k0_off2937_inb : ∀ (v330 : BitVec 32) (k0_hw42 : k0_chk42 v330), ∀ a, (k0_off2937 v330) a + S1x1x1x8x128.size a ≤ S2x10x108x8x128.size a := fun v330 k0_hw42 => k0_hw42.2.2.1.2.2.2.2.2.2.2.2.2.2.2.2.2.1
theorem k0_off2940_inb : ∀ (v330 : BitVec 32) (k0_hw42 : k0_chk42 v330), ∀ a, (k0_off2940 v330) a + S1x1x1x8x128.size a ≤ S2x10x108x8x128.size a := fun v330 k0_hw42 => k0_hw42.2.2.1.2.2.2.2.2.2.2.2.2.2.2.2.2.2.1
theorem k0_off2942_inb : ∀ (v330 : BitVec 32) (k0_hw42 : k0_chk42 v330), ∀ a, (k0_off2942 v330) a + S1x1x1x8x128.size a ≤ S2x10x108x8x128.size a := fun v330 k0_hw42 => k0_hw42.2.2.1.2.2.2.2.2.2.2.2.2.2.2.2.2.2.2.1
theorem k0_off2945_inb : ∀ (v330 : BitVec 32) (k0_hw42 : k0_chk42 v330), ∀ a, (k0_off2945 v330) a + S1x1x1x8x128.size a ≤ S2x10x108x8x128.size a := fun v330 k0_hw42 => k0_hw42.2.2.1.2.2.2.2.2.2.2.2.2.2.2.2.2.2.2.2.1
theorem k0_off2947_inb : ∀ (v330 : BitVec 32) (k0_hw42 : k0_chk42 v330), ∀ a, (k0_off2947 v330) a + S1x1x1x8x128.size a ≤ S2x10x108x8x128.size a := fun v330 k0_hw42 => k0_hw42.2.2.1.2.2.2.2.2.2.2.2.2.2.2.2.2.2.2.2.2.1
theorem k0_off2950_inb : ∀ (v330 : BitVec 32) (k0_hw42 : k0_chk42 v330), ∀ a, (k0_off2950 v330) a + S1x1x1x8x128.size a ≤ S2x10x108x8x128.size a := fun v330 k0_hw42 => k0_hw42.2.2.1.2.2.2.2.2.2.2.2.2.2.2.2.2.2.2.2.2.2.1
theorem k0_off2952_inb : ∀ (v330 : BitVec 32) (k0_hw42 : k0_chk42 v330), ∀ a, (k0_off2952 v330) a + S1x1x1x8x128.size a ≤ S2x10x108x8x128.size a := fun v330 k0_hw42 => k0_hw42.2.2.1.2.2.2.2.2.2.2.2.2.2.2.2.2.2.2.2.2.2.2.1
theorem k0_off2955_inb : ∀ (v330 : BitVec 32) (k0_hw42 : k0_chk42 v330), ∀ a, (k0_off2955 v330) a + S1x1x1x8x128.size a ≤ S2x10x108x8x128.size a := fun v330 k0_hw42 => k0_hw42.2.2.1.2.2.2.2.2.2.2.2.2.2.2.2.2.2.2.2.2.2.2.2.1
theorem k0_off2957_inb : ∀ (v330 : BitVec 32) (k0_hw42 : k0_chk42 v330), ∀ a, (k0_off2957 v330) a + S1x1x1x8x128.size a ≤ S2x10x108x8x128.size a := fun v330 k0_hw42 => k0_hw42.2.2.1.2.2.2.2.2.2.2.2.2.2.2.2.2.2.2.2.2.2.2.2.2.1
theorem k0_off2960_inb : ∀ (v330 : BitVec 32) (k0_hw42 : k0_chk42 v330), ∀ a, (k0_off2960 v330) a + S1x1x1x8x128.size a ≤ S2x10x108x8x128.size a := fun v330 k0_hw42 => k0_hw42.2.2.1.2.2.2.2.2.2.2.2.2.2.2.2.2.2.2.2.2.2.2.2.2.2.1
theorem k0_off2962_inb : ∀ (v330 : BitVec 32) (k0_hw42 : k0_chk42 v330), ∀ a, (k0_off2962 v330) a + S1x1x1x8x128.size a ≤ S2x10x108x8x128.size a := fun v330 k0_hw42 => k0_hw42.2.2.1.2.2.2.2.2.2.2.2.2.2.2.2.2.2.2.2.2.2.2.2.2.2.2.1
theorem k0_off2965_inb : ∀ (v330 : BitVec 32) (k0_hw42 : k0_chk42 v330), ∀ a, (k0_off2965 v330) a + S1x1x1x8x128.size a ≤ S2x10x108x8x128.size a := fun v330 k0_hw42 => k0_hw42.2.2.1.2.2.2.2.2.2.2.2.2.2.2.2.2.2.2.2.2.2.2.2.2.2.2.2.1
theorem k0_off2967_inb : ∀ (v330 : BitVec 32) (k0_hw42 : k0_chk42 v330), ∀ a, (k0_off2967 v330) a + S1x1x1x8x128.size a ≤ S2x10x108x8x128.size a := fun v330 k0_hw42 => k0_hw42.2.2.1.2.2.2.2.2.2.2.2.2.2.2.2.2.2.2.2.2.2.2.2.2.2.2.2.2.1
theorem k0_off2970_inb : ∀ (v330 : BitVec 32) (k0_hw42 : k0_chk42 v330), ∀ a, (k0_off2970 v330) a + S1x1x1x8x128.size a ≤ S2x10x108x8x128.size a := fun v330 k0_hw42 => k0_hw42.2.2.1.2.2.2.2.2.2.2.2.2.2.2.2.2.2.2.2.2.2.2.2.2.2.2.2.2.2.1
theorem k0_off2972_inb : ∀ (v330 : BitVec 32) (k0_hw42 : k0_chk42 v330), ∀ a, (k0_off2972 v330) a + S1x1x1x8x128.size a ≤ S2x10x108x8x128.size a := fun v330 k0_hw42 => k0_hw42.2.2.1.2.2.2.2.2.2.2.2.2.2.2.2.2.2.2.2.2.2.2.2.2.2.2.2.2.2.2.1
theorem k0_off2975_inb : ∀ (v330 : BitVec 32) (k0_hw42 : k0_chk42 v330), ∀ a, (k0_off2975 v330) a + S1x1x1x8x128.size a ≤ S2x10x108x8x128.size a := fun v330 k0_hw42 => k0_hw42.2.2.1.2.2.2.2.2.2.2.2.2.2.2.2.2.2.2.2.2.2.2.2.2.2.2.2.2.2.2.2.1
theorem k0_off2977_inb : ∀ (v330 : BitVec 32) (k0_hw42 : k0_chk42 v330), ∀ a, (k0_off2977 v330) a + S1x1x1x8x128.size a ≤ S2x10x108x8x128.size a := fun v330 k0_hw42 => k0_hw42.2.2.1.2.2.2.2.2.2.2.2.2.2.2.2.2.2.2.2.2.2.2.2.2.2.2.2.2.2.2.2.2.1
theorem k0_off2980_inb : ∀ (v330 : BitVec 32) (k0_hw42 : k0_chk42 v330), ∀ a, (k0_off2980 v330) a + S1x1x1x8x128.size a ≤ S2x10x108x8x128.size a := fun v330 k0_hw42 => k0_hw42.2.2.1.2.2.2.2.2.2.2.2.2.2.2.2.2.2.2.2.2.2.2.2.2.2.2.2.2.2.2.2.2.2.1
theorem k0_off2982_inb : ∀ (v330 : BitVec 32) (k0_hw42 : k0_chk42 v330), ∀ a, (k0_off2982 v330) a + S1x1x1x8x128.size a ≤ S2x10x108x8x128.size a := fun v330 k0_hw42 => k0_hw42.2.2.1.2.2.2.2.2.2.2.2.2.2.2.2.2.2.2.2.2.2.2.2.2.2.2.2.2.2.2.2.2.2.2
theorem k0_off2985_inb : ∀ (v330 : BitVec 32) (k0_hw42 : k0_chk42 v330), ∀ a, (k0_off2985 v330) a + S1x1x1x8x128.size a ≤ S2x10x108x8x128.size a := fun v330 k0_hw42 => k0_hw42.2.2.2.1
theorem k0_off2987_inb : ∀ (v330 : BitVec 32) (k0_hw42 : k0_chk42 v330), ∀ a, (k0_off2987 v330) a + S1x1x1x8x128.size a ≤ S2x10x108x8x128.size a := fun v330 k0_hw42 => k0_hw42.2.2.2.2.1
theorem k0_off2990_inb : ∀ (v330 : BitVec 32) (k0_hw42 : k0_chk42 v330), ∀ a, (k0_off2990 v330) a + S1x1x1x8x128.size a ≤ S2x10x108x8x128.size a := fun v330 k0_hw42 => k0_hw42.2.2.2.2.2.1
theorem k0_off2992_inb : ∀ (v330 : BitVec 32) (k0_hw42 : k0_chk42 v330), ∀ a, (k0_off2992 v330) a + S1x1x1x8x128.size a ≤ S2x10x108x8x128.size a := fun v330 k0_hw42 => k0_hw42.2.2.2.2.2.2.1
theorem k0_off2995_inb : ∀ (v330 : BitVec 32) (k0_hw42 : k0_chk42 v330), ∀ a, (k0_off2995 v330) a + S1x1x1x8x128.size a ≤ S2x10x108x8x128.size a := fun v330 k0_hw42 => k0_hw42.2.2.2.2.2.2.2.1
theorem k0_off2997_inb : ∀ (v330 : BitVec 32) (k0_hw42 : k0_chk42 v330), ∀ a, (k0_off2997 v330) a + S1x1x1x8x128.size a ≤ S2x10x108x8x128.size a := fun v330 k0_hw42 => k0_hw42.2.2.2.2.2.2.2.2.1
theorem k0_off3000_inb : ∀ (v330 : BitVec 32) (k0_hw42 : k0_chk42 v330), ∀ a, (k0_off3000 v330) a + S1x1x1x8x128.size a ≤ S2x10x108x8x128.size a := fun v330 k0_hw42 => k0_hw42.2.2.2.2.2.2.2.2.2.1
theorem k0_off3002_inb : ∀ (v330 : BitVec 32) (k0_hw42 : k0_chk42 v330), ∀ a, (k0_off3002 v330) a + S1x1x1x8x128.size a ≤ S2x10x108x8x128.size a := fun v330 k0_hw42 => k0_hw42.2.2.2.2.2.2.2.2.2.2.1
theorem k0_off3005_inb : ∀ (v330 : BitVec 32) (k0_hw42 : k0_chk42 v330), ∀ a, (k0_off3005 v330) a + S1x1x1x8x128.size a ≤ S2x10x108x8x128.size a := fun v330 k0_hw42 => k0_hw42.2.2.2.2.2.2.2.2.2.2.2.1
theorem k0_off3007_inb : ∀ (v330 : BitVec 32) (k0_hw42 : k0_chk42 v330), ∀ a, (k0_off3007 v330) a + S1x1x1x8x128.size a ≤ S2x10x108x8x128.size a := fun v330 k0_hw42 => k0_hw42.2.2.2.2.2.2.2.2.2.2.2.2.1
theorem k0_off3010_inb : ∀ (v330 : BitVec 32) (k0_hw42 : k0_chk42 v330), ∀ a, (k0_off3010 v330) a + S1x1x1x8x128.size a ≤ S2x10x108x8x128.size a := fun v330 k0_hw42 => k0_hw42.2.2.2.2.2.2.2.2.2.2.2.2.2.1
theorem k0_off3012_inb : ∀ (v330 : BitVec 32) (k0_hw42 : k0_chk42 v330), ∀ a, (k0_off3012 v330) a + S1x1x1x8x128.size a ≤ S2x10x108x8x128.size a := fun v330 k0_hw42 => k0_hw42.2.2.2.2.2.2.2.2.2.2.2.2.2.2

def k0_off3013 (v1 : BitVec 32) (k0_t51 : Fin (k0_t51_loop v1).trips) (v228 : BitVec 32) (v257 : BitVec 32) (k0_t62 : Fin (k0_t62_loop v228 v257).trips) : Fin 5 → Nat :=
  let c1_1447 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v3024 : Index := Scalar.indexCast v226
  let c107_1448 : Index := 107#32
  let c0_i32_433 : BitVec 32 := 0#32
  let c1_i32_435 : BitVec 32 := 1#32
  let arg19 : BitVec 32 := Scf.iv c0_i32_433 c1_i32_435 k0_t62
  let c16_i32_473 : BitVec 32 := 16#32
  let v381 : BitVec 32 := Scalar.muli arg19 c16_i32_473
  let v382 : BitVec 32 := v381
  let v3025 : Index := Scalar.indexCast v382
  let c0_1449 : Index := 0#32
  ![1, v3024.toNat, 107, v3025.toNat, 0]
@[reducible] def k0_t63_loop (v228 : BitVec 32) (v257 : BitVec 32) : Scf.Loop 32 :=
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let v305 : BitVec 32 := Scalar.addi c0_i32_433 v304
  let c1_i32_436 : BitVec 32 := 1#32
  ⟨v308, v305, c1_i32_436⟩
def k0_off3014 (v228 : BitVec 32) (v257 : BitVec 32) (k0_t63 : Fin (k0_t63_loop v228 v257).trips) : Fin 2 → Nat :=
  let c0_i32_381 : BitVec 32 := 0#32
  let v230 : BitVec 1 := Scalar.cmpi .sgt v228 c0_i32_381
  let v231 : BitVec 32 := Scalar.extui v230
  let c0_i32_382 : BitVec 32 := 0#32
  let v232 : BitVec 1 := Scalar.cmpi .slt v228 c0_i32_382
  let v233 : BitVec 32 := Scalar.extui v232
  let v234 : BitVec 32 := Scalar.subi v231 v233
  let c16_i32 : BitVec 32 := 16#32
  let c0_i32_383 : BitVec 32 := 0#32
  let v235 : BitVec 1 := Scalar.cmpi .sgt c16_i32 c0_i32_383
  let v236 : BitVec 32 := Scalar.extui v235
  let c0_i32_384 : BitVec 32 := 0#32
  let v237 : BitVec 1 := Scalar.cmpi .slt c16_i32 c0_i32_384
  let v238 : BitVec 32 := Scalar.extui v237
  let v239 : BitVec 32 := Scalar.subi v236 v238
  let v240 : BitVec 1 := Scalar.cmpi .ne v234 v239
  let v241 : BitVec 32 := Scalar.remsi v228 c16_i32
  let c0_i32_385 : BitVec 32 := 0#32
  let v242 : BitVec 1 := Scalar.cmpi .ne v241 c0_i32_385
  let v243 : BitVec 1 := Scalar.andi v240 v242
  let v229 : BitVec 32 := Scalar.divsi v228 c16_i32
  let c1_i32_386 : BitVec 32 := 1#32
  let v244 : BitVec 32 := Scalar.subi v229 c1_i32_386
  let v245 : BitVec 32 := Scalar.select v243 v244 v229
  let v328 : Index := Scalar.indexCast v245
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_452 : BitVec 32 := 8#32
  let v326 : BitVec 32 := Scalar.muli v255 c8_i32_452
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v327 : BitVec 32 := Scalar.addi v326 arg19
  let v329 : Index := Scalar.indexCast v327
  ![v328.toNat, v329.toNat]
def k0_off3015 (v228 : BitVec 32) : Fin 1 → Nat :=
  let c0_i32_381 : BitVec 32 := 0#32
  let v230 : BitVec 1 := Scalar.cmpi .sgt v228 c0_i32_381
  let v231 : BitVec 32 := Scalar.extui v230
  let c0_i32_382 : BitVec 32 := 0#32
  let v232 : BitVec 1 := Scalar.cmpi .slt v228 c0_i32_382
  let v233 : BitVec 32 := Scalar.extui v232
  let v234 : BitVec 32 := Scalar.subi v231 v233
  let c16_i32 : BitVec 32 := 16#32
  let c0_i32_383 : BitVec 32 := 0#32
  let v235 : BitVec 1 := Scalar.cmpi .sgt c16_i32 c0_i32_383
  let v236 : BitVec 32 := Scalar.extui v235
  let c0_i32_384 : BitVec 32 := 0#32
  let v237 : BitVec 1 := Scalar.cmpi .slt c16_i32 c0_i32_384
  let v238 : BitVec 32 := Scalar.extui v237
  let v239 : BitVec 32 := Scalar.subi v236 v238
  let v240 : BitVec 1 := Scalar.cmpi .ne v234 v239
  let v241 : BitVec 32 := Scalar.remsi v228 c16_i32
  let c0_i32_385 : BitVec 32 := 0#32
  let v242 : BitVec 1 := Scalar.cmpi .ne v241 c0_i32_385
  let v243 : BitVec 1 := Scalar.andi v240 v242
  let v229 : BitVec 32 := Scalar.divsi v228 c16_i32
  let c1_i32_386 : BitVec 32 := 1#32
  let v244 : BitVec 32 := Scalar.subi v229 c1_i32_386
  let v245 : BitVec 32 := Scalar.select v243 v244 v229
  let v359 : Index := Scalar.indexCast v245
  ![v359.toNat]
def k0_mult25 (v228 : BitVec 32) (v257 : BitVec 32) (k0_t63 : Fin (k0_t63_loop v228 v257).trips) : BitVec 32 :=
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  v381
def k0_off3016 (v1 : BitVec 32) (k0_t51 : Fin (k0_t51_loop v1).trips) (v228 : BitVec 32) (v257 : BitVec 32) (k0_t63 : Fin (k0_t63_loop v228 v257).trips) : Fin 5 → Nat :=
  let c1 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v383 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v384 : Index := Scalar.indexCast arg19
  let c0 : Index := 0#32
  let c0_474 : Index := 0#32
  ![1, v383.toNat, v384.toNat, 0, 0]
def k0_off3017 (v330 : BitVec 32) : Fin 5 → Nat :=
  let c1_475 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v388 : Index := Scalar.indexCast v347
  let c0_476 : Index := 0#32
  let c0_477 : Index := 0#32
  let c0_478 : Index := 0#32
  ![1, v388.toNat, 0, 0, 0]

def k0_off3018 (v1 : BitVec 32) (k0_t51 : Fin (k0_t51_loop v1).trips) (v228 : BitVec 32) (v257 : BitVec 32) (k0_t63 : Fin (k0_t63_loop v228 v257).trips) : Fin 5 → Nat :=
  let c1_481 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v405 : Index := Scalar.indexCast v226
  let c0_482 : Index := 0#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v406 : Index := Scalar.indexCast v382
  let c0_483 : Index := 0#32
  ![1, v405.toNat, 0, v406.toNat, 0]
def k0_off3019 (v330 : BitVec 32) : Fin 5 → Nat :=
  let c1_484 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v410 : Index := Scalar.indexCast v347
  let c1_485 : Index := 1#32
  let c0_486 : Index := 0#32
  let c0_487 : Index := 0#32
  ![1, v410.toNat, 1, 0, 0]
def k0_off3020 (v1 : BitVec 32) (k0_t51 : Fin (k0_t51_loop v1).trips) (v228 : BitVec 32) (v257 : BitVec 32) (k0_t63 : Fin (k0_t63_loop v228 v257).trips) : Fin 5 → Nat :=
  let c1_490 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v427 : Index := Scalar.indexCast v226
  let c1_491 : Index := 1#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v428 : Index := Scalar.indexCast v382
  let c0_492 : Index := 0#32
  ![1, v427.toNat, 1, v428.toNat, 0]
def k0_off3021 (v1 : BitVec 32) (k0_t51 : Fin (k0_t51_loop v1).trips) (v228 : BitVec 32) (v257 : BitVec 32) (k0_t63 : Fin (k0_t63_loop v228 v257).trips) : Fin 5 → Nat :=
  let c1_493 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v432 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v433 : Index := Scalar.indexCast arg19
  let c32 : Index := 32#32
  let c0_494 : Index := 0#32
  ![1, v432.toNat, v433.toNat, 32, 0]
def k0_off3022 (v330 : BitVec 32) : Fin 5 → Nat :=
  let c1_495 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v437 : Index := Scalar.indexCast v347
  let c2 : Index := 2#32
  let c0_496 : Index := 0#32
  let c0_497 : Index := 0#32
  ![1, v437.toNat, 2, 0, 0]
def k0_off3023 (v1 : BitVec 32) (k0_t51 : Fin (k0_t51_loop v1).trips) (v228 : BitVec 32) (v257 : BitVec 32) (k0_t63 : Fin (k0_t63_loop v228 v257).trips) : Fin 5 → Nat :=
  let c1_500 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v454 : Index := Scalar.indexCast v226
  let c2_501 : Index := 2#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v455 : Index := Scalar.indexCast v382
  let c0_502 : Index := 0#32
  ![1, v454.toNat, 2, v455.toNat, 0]
def k0_off3024 (v330 : BitVec 32) : Fin 5 → Nat :=
  let c1_503 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v459 : Index := Scalar.indexCast v347
  let c3 : Index := 3#32
  let c0_504 : Index := 0#32
  let c0_505 : Index := 0#32
  ![1, v459.toNat, 3, 0, 0]
def k0_off3025 (v1 : BitVec 32) (k0_t51 : Fin (k0_t51_loop v1).trips) (v228 : BitVec 32) (v257 : BitVec 32) (k0_t63 : Fin (k0_t63_loop v228 v257).trips) : Fin 5 → Nat :=
  let c1_508 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v476 : Index := Scalar.indexCast v226
  let c3_509 : Index := 3#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v477 : Index := Scalar.indexCast v382
  let c0_510 : Index := 0#32
  ![1, v476.toNat, 3, v477.toNat, 0]
def k0_off3026 (v1 : BitVec 32) (k0_t51 : Fin (k0_t51_loop v1).trips) (v228 : BitVec 32) (v257 : BitVec 32) (k0_t63 : Fin (k0_t63_loop v228 v257).trips) : Fin 5 → Nat :=
  let c1_511 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v481 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v482 : Index := Scalar.indexCast arg19
  let c64 : Index := 64#32
  let c0_512 : Index := 0#32
  ![1, v481.toNat, v482.toNat, 64, 0]
def k0_off3027 (v330 : BitVec 32) : Fin 5 → Nat :=
  let c1_513 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v486 : Index := Scalar.indexCast v347
  let c4 : Index := 4#32
  let c0_514 : Index := 0#32
  let c0_515 : Index := 0#32
  ![1, v486.toNat, 4, 0, 0]
def k0_off3028 (v1 : BitVec 32) (k0_t51 : Fin (k0_t51_loop v1).trips) (v228 : BitVec 32) (v257 : BitVec 32) (k0_t63 : Fin (k0_t63_loop v228 v257).trips) : Fin 5 → Nat :=
  let c1_518 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v503 : Index := Scalar.indexCast v226
  let c4_519 : Index := 4#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v504 : Index := Scalar.indexCast v382
  let c0_520 : Index := 0#32
  ![1, v503.toNat, 4, v504.toNat, 0]
def k0_off3029 (v330 : BitVec 32) : Fin 5 → Nat :=
  let c1_521 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v508 : Index := Scalar.indexCast v347
  let c5 : Index := 5#32
  let c0_522 : Index := 0#32
  let c0_523 : Index := 0#32
  ![1, v508.toNat, 5, 0, 0]
def k0_off3030 (v1 : BitVec 32) (k0_t51 : Fin (k0_t51_loop v1).trips) (v228 : BitVec 32) (v257 : BitVec 32) (k0_t63 : Fin (k0_t63_loop v228 v257).trips) : Fin 5 → Nat :=
  let c1_526 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v525 : Index := Scalar.indexCast v226
  let c5_527 : Index := 5#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v526 : Index := Scalar.indexCast v382
  let c0_528 : Index := 0#32
  ![1, v525.toNat, 5, v526.toNat, 0]
def k0_off3031 (v1 : BitVec 32) (k0_t51 : Fin (k0_t51_loop v1).trips) (v228 : BitVec 32) (v257 : BitVec 32) (k0_t63 : Fin (k0_t63_loop v228 v257).trips) : Fin 5 → Nat :=
  let c1_529 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v530 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v531 : Index := Scalar.indexCast arg19
  let c96 : Index := 96#32
  let c0_530 : Index := 0#32
  ![1, v530.toNat, v531.toNat, 96, 0]
def k0_off3032 (v330 : BitVec 32) : Fin 5 → Nat :=
  let c1_531 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v535 : Index := Scalar.indexCast v347
  let c6 : Index := 6#32
  let c0_532 : Index := 0#32
  let c0_533 : Index := 0#32
  ![1, v535.toNat, 6, 0, 0]
def k0_off3033 (v1 : BitVec 32) (k0_t51 : Fin (k0_t51_loop v1).trips) (v228 : BitVec 32) (v257 : BitVec 32) (k0_t63 : Fin (k0_t63_loop v228 v257).trips) : Fin 5 → Nat :=
  let c1_536 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v552 : Index := Scalar.indexCast v226
  let c6_537 : Index := 6#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v553 : Index := Scalar.indexCast v382
  let c0_538 : Index := 0#32
  ![1, v552.toNat, 6, v553.toNat, 0]
def k0_off3034 (v330 : BitVec 32) : Fin 5 → Nat :=
  let c1_539 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v557 : Index := Scalar.indexCast v347
  let c7 : Index := 7#32
  let c0_540 : Index := 0#32
  let c0_541 : Index := 0#32
  ![1, v557.toNat, 7, 0, 0]
def k0_off3035 (v1 : BitVec 32) (k0_t51 : Fin (k0_t51_loop v1).trips) (v228 : BitVec 32) (v257 : BitVec 32) (k0_t63 : Fin (k0_t63_loop v228 v257).trips) : Fin 5 → Nat :=
  let c1_544 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v574 : Index := Scalar.indexCast v226
  let c7_545 : Index := 7#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v575 : Index := Scalar.indexCast v382
  let c0_546 : Index := 0#32
  ![1, v574.toNat, 7, v575.toNat, 0]
def k0_off3036 (v1 : BitVec 32) (k0_t51 : Fin (k0_t51_loop v1).trips) (v228 : BitVec 32) (v257 : BitVec 32) (k0_t63 : Fin (k0_t63_loop v228 v257).trips) : Fin 5 → Nat :=
  let c1_547 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v579 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v580 : Index := Scalar.indexCast arg19
  let c128 : Index := 128#32
  let c0_548 : Index := 0#32
  ![1, v579.toNat, v580.toNat, 128, 0]
def k0_off3037 (v330 : BitVec 32) : Fin 5 → Nat :=
  let c1_549 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v584 : Index := Scalar.indexCast v347
  let c8 : Index := 8#32
  let c0_550 : Index := 0#32
  let c0_551 : Index := 0#32
  ![1, v584.toNat, 8, 0, 0]
def k0_off3038 (v1 : BitVec 32) (k0_t51 : Fin (k0_t51_loop v1).trips) (v228 : BitVec 32) (v257 : BitVec 32) (k0_t63 : Fin (k0_t63_loop v228 v257).trips) : Fin 5 → Nat :=
  let c1_554 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v601 : Index := Scalar.indexCast v226
  let c8_555 : Index := 8#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v602 : Index := Scalar.indexCast v382
  let c0_556 : Index := 0#32
  ![1, v601.toNat, 8, v602.toNat, 0]
def k0_off3039 (v330 : BitVec 32) : Fin 5 → Nat :=
  let c1_557 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v606 : Index := Scalar.indexCast v347
  let c9 : Index := 9#32
  let c0_558 : Index := 0#32
  let c0_559 : Index := 0#32
  ![1, v606.toNat, 9, 0, 0]
def k0_off3040 (v1 : BitVec 32) (k0_t51 : Fin (k0_t51_loop v1).trips) (v228 : BitVec 32) (v257 : BitVec 32) (k0_t63 : Fin (k0_t63_loop v228 v257).trips) : Fin 5 → Nat :=
  let c1_562 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v623 : Index := Scalar.indexCast v226
  let c9_563 : Index := 9#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v624 : Index := Scalar.indexCast v382
  let c0_564 : Index := 0#32
  ![1, v623.toNat, 9, v624.toNat, 0]
def k0_off3041 (v1 : BitVec 32) (k0_t51 : Fin (k0_t51_loop v1).trips) (v228 : BitVec 32) (v257 : BitVec 32) (k0_t63 : Fin (k0_t63_loop v228 v257).trips) : Fin 5 → Nat :=
  let c1_565 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v628 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v629 : Index := Scalar.indexCast arg19
  let c160 : Index := 160#32
  let c0_566 : Index := 0#32
  ![1, v628.toNat, v629.toNat, 160, 0]
def k0_off3042 (v330 : BitVec 32) : Fin 5 → Nat :=
  let c1_567 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v633 : Index := Scalar.indexCast v347
  let c10 : Index := 10#32
  let c0_568 : Index := 0#32
  let c0_569 : Index := 0#32
  ![1, v633.toNat, 10, 0, 0]
def k0_off3043 (v1 : BitVec 32) (k0_t51 : Fin (k0_t51_loop v1).trips) (v228 : BitVec 32) (v257 : BitVec 32) (k0_t63 : Fin (k0_t63_loop v228 v257).trips) : Fin 5 → Nat :=
  let c1_572 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v650 : Index := Scalar.indexCast v226
  let c10_573 : Index := 10#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v651 : Index := Scalar.indexCast v382
  let c0_574 : Index := 0#32
  ![1, v650.toNat, 10, v651.toNat, 0]
def k0_off3044 (v330 : BitVec 32) : Fin 5 → Nat :=
  let c1_575 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v655 : Index := Scalar.indexCast v347
  let c11 : Index := 11#32
  let c0_576 : Index := 0#32
  let c0_577 : Index := 0#32
  ![1, v655.toNat, 11, 0, 0]
def k0_off3045 (v1 : BitVec 32) (k0_t51 : Fin (k0_t51_loop v1).trips) (v228 : BitVec 32) (v257 : BitVec 32) (k0_t63 : Fin (k0_t63_loop v228 v257).trips) : Fin 5 → Nat :=
  let c1_580 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v672 : Index := Scalar.indexCast v226
  let c11_581 : Index := 11#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v673 : Index := Scalar.indexCast v382
  let c0_582 : Index := 0#32
  ![1, v672.toNat, 11, v673.toNat, 0]
def k0_off3046 (v1 : BitVec 32) (k0_t51 : Fin (k0_t51_loop v1).trips) (v228 : BitVec 32) (v257 : BitVec 32) (k0_t63 : Fin (k0_t63_loop v228 v257).trips) : Fin 5 → Nat :=
  let c1_583 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v677 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v678 : Index := Scalar.indexCast arg19
  let c192 : Index := 192#32
  let c0_584 : Index := 0#32
  ![1, v677.toNat, v678.toNat, 192, 0]
def k0_off3047 (v330 : BitVec 32) : Fin 5 → Nat :=
  let c1_585 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v682 : Index := Scalar.indexCast v347
  let c12 : Index := 12#32
  let c0_586 : Index := 0#32
  let c0_587 : Index := 0#32
  ![1, v682.toNat, 12, 0, 0]
def k0_off3048 (v1 : BitVec 32) (k0_t51 : Fin (k0_t51_loop v1).trips) (v228 : BitVec 32) (v257 : BitVec 32) (k0_t63 : Fin (k0_t63_loop v228 v257).trips) : Fin 5 → Nat :=
  let c1_590 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v699 : Index := Scalar.indexCast v226
  let c12_591 : Index := 12#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v700 : Index := Scalar.indexCast v382
  let c0_592 : Index := 0#32
  ![1, v699.toNat, 12, v700.toNat, 0]
def k0_off3049 (v330 : BitVec 32) : Fin 5 → Nat :=
  let c1_593 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v704 : Index := Scalar.indexCast v347
  let c13 : Index := 13#32
  let c0_594 : Index := 0#32
  let c0_595 : Index := 0#32
  ![1, v704.toNat, 13, 0, 0]
def k0_off3050 (v1 : BitVec 32) (k0_t51 : Fin (k0_t51_loop v1).trips) (v228 : BitVec 32) (v257 : BitVec 32) (k0_t63 : Fin (k0_t63_loop v228 v257).trips) : Fin 5 → Nat :=
  let c1_598 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v721 : Index := Scalar.indexCast v226
  let c13_599 : Index := 13#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v722 : Index := Scalar.indexCast v382
  let c0_600 : Index := 0#32
  ![1, v721.toNat, 13, v722.toNat, 0]
def k0_off3051 (v1 : BitVec 32) (k0_t51 : Fin (k0_t51_loop v1).trips) (v228 : BitVec 32) (v257 : BitVec 32) (k0_t63 : Fin (k0_t63_loop v228 v257).trips) : Fin 5 → Nat :=
  let c1_601 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v726 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v727 : Index := Scalar.indexCast arg19
  let c224 : Index := 224#32
  let c0_602 : Index := 0#32
  ![1, v726.toNat, v727.toNat, 224, 0]
def k0_off3052 (v330 : BitVec 32) : Fin 5 → Nat :=
  let c1_603 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v731 : Index := Scalar.indexCast v347
  let c14 : Index := 14#32
  let c0_604 : Index := 0#32
  let c0_605 : Index := 0#32
  ![1, v731.toNat, 14, 0, 0]
def k0_off3053 (v1 : BitVec 32) (k0_t51 : Fin (k0_t51_loop v1).trips) (v228 : BitVec 32) (v257 : BitVec 32) (k0_t63 : Fin (k0_t63_loop v228 v257).trips) : Fin 5 → Nat :=
  let c1_608 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v748 : Index := Scalar.indexCast v226
  let c14_609 : Index := 14#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v749 : Index := Scalar.indexCast v382
  let c0_610 : Index := 0#32
  ![1, v748.toNat, 14, v749.toNat, 0]
def k0_off3054 (v330 : BitVec 32) : Fin 5 → Nat :=
  let c1_611 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v753 : Index := Scalar.indexCast v347
  let c15 : Index := 15#32
  let c0_612 : Index := 0#32
  let c0_613 : Index := 0#32
  ![1, v753.toNat, 15, 0, 0]
def k0_off3055 (v1 : BitVec 32) (k0_t51 : Fin (k0_t51_loop v1).trips) (v228 : BitVec 32) (v257 : BitVec 32) (k0_t63 : Fin (k0_t63_loop v228 v257).trips) : Fin 5 → Nat :=
  let c1_616 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v770 : Index := Scalar.indexCast v226
  let c15_617 : Index := 15#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v771 : Index := Scalar.indexCast v382
  let c0_618 : Index := 0#32
  ![1, v770.toNat, 15, v771.toNat, 0]
def k0_off3056 (v1 : BitVec 32) (k0_t51 : Fin (k0_t51_loop v1).trips) (v228 : BitVec 32) (v257 : BitVec 32) (k0_t63 : Fin (k0_t63_loop v228 v257).trips) : Fin 5 → Nat :=
  let c1_619 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v775 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v776 : Index := Scalar.indexCast arg19
  let c256 : Index := 256#32
  let c0_620 : Index := 0#32
  ![1, v775.toNat, v776.toNat, 256, 0]
def k0_off3057 (v330 : BitVec 32) : Fin 5 → Nat :=
  let c1_621 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v780 : Index := Scalar.indexCast v347
  let c16 : Index := 16#32
  let c0_622 : Index := 0#32
  let c0_623 : Index := 0#32
  ![1, v780.toNat, 16, 0, 0]
def k0_off3058 (v1 : BitVec 32) (k0_t51 : Fin (k0_t51_loop v1).trips) (v228 : BitVec 32) (v257 : BitVec 32) (k0_t63 : Fin (k0_t63_loop v228 v257).trips) : Fin 5 → Nat :=
  let c1_626 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v797 : Index := Scalar.indexCast v226
  let c16_627 : Index := 16#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v798 : Index := Scalar.indexCast v382
  let c0_628 : Index := 0#32
  ![1, v797.toNat, 16, v798.toNat, 0]
def k0_off3059 (v330 : BitVec 32) : Fin 5 → Nat :=
  let c1_629 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v802 : Index := Scalar.indexCast v347
  let c17 : Index := 17#32
  let c0_630 : Index := 0#32
  let c0_631 : Index := 0#32
  ![1, v802.toNat, 17, 0, 0]
def k0_off3060 (v1 : BitVec 32) (k0_t51 : Fin (k0_t51_loop v1).trips) (v228 : BitVec 32) (v257 : BitVec 32) (k0_t63 : Fin (k0_t63_loop v228 v257).trips) : Fin 5 → Nat :=
  let c1_634 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v819 : Index := Scalar.indexCast v226
  let c17_635 : Index := 17#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v820 : Index := Scalar.indexCast v382
  let c0_636 : Index := 0#32
  ![1, v819.toNat, 17, v820.toNat, 0]
def k0_off3061 (v1 : BitVec 32) (k0_t51 : Fin (k0_t51_loop v1).trips) (v228 : BitVec 32) (v257 : BitVec 32) (k0_t63 : Fin (k0_t63_loop v228 v257).trips) : Fin 5 → Nat :=
  let c1_637 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v824 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v825 : Index := Scalar.indexCast arg19
  let c288 : Index := 288#32
  let c0_638 : Index := 0#32
  ![1, v824.toNat, v825.toNat, 288, 0]
def k0_off3062 (v330 : BitVec 32) : Fin 5 → Nat :=
  let c1_639 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v829 : Index := Scalar.indexCast v347
  let c18 : Index := 18#32
  let c0_640 : Index := 0#32
  let c0_641 : Index := 0#32
  ![1, v829.toNat, 18, 0, 0]
def k0_off3063 (v1 : BitVec 32) (k0_t51 : Fin (k0_t51_loop v1).trips) (v228 : BitVec 32) (v257 : BitVec 32) (k0_t63 : Fin (k0_t63_loop v228 v257).trips) : Fin 5 → Nat :=
  let c1_644 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v846 : Index := Scalar.indexCast v226
  let c18_645 : Index := 18#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v847 : Index := Scalar.indexCast v382
  let c0_646 : Index := 0#32
  ![1, v846.toNat, 18, v847.toNat, 0]
def k0_off3064 (v330 : BitVec 32) : Fin 5 → Nat :=
  let c1_647 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v851 : Index := Scalar.indexCast v347
  let c19 : Index := 19#32
  let c0_648 : Index := 0#32
  let c0_649 : Index := 0#32
  ![1, v851.toNat, 19, 0, 0]
def k0_off3065 (v1 : BitVec 32) (k0_t51 : Fin (k0_t51_loop v1).trips) (v228 : BitVec 32) (v257 : BitVec 32) (k0_t63 : Fin (k0_t63_loop v228 v257).trips) : Fin 5 → Nat :=
  let c1_652 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v868 : Index := Scalar.indexCast v226
  let c19_653 : Index := 19#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v869 : Index := Scalar.indexCast v382
  let c0_654 : Index := 0#32
  ![1, v868.toNat, 19, v869.toNat, 0]
def k0_off3066 (v1 : BitVec 32) (k0_t51 : Fin (k0_t51_loop v1).trips) (v228 : BitVec 32) (v257 : BitVec 32) (k0_t63 : Fin (k0_t63_loop v228 v257).trips) : Fin 5 → Nat :=
  let c1_655 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v873 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v874 : Index := Scalar.indexCast arg19
  let c320 : Index := 320#32
  let c0_656 : Index := 0#32
  ![1, v873.toNat, v874.toNat, 320, 0]
def k0_off3067 (v330 : BitVec 32) : Fin 5 → Nat :=
  let c1_657 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v878 : Index := Scalar.indexCast v347
  let c20 : Index := 20#32
  let c0_658 : Index := 0#32
  let c0_659 : Index := 0#32
  ![1, v878.toNat, 20, 0, 0]
def k0_off3068 (v1 : BitVec 32) (k0_t51 : Fin (k0_t51_loop v1).trips) (v228 : BitVec 32) (v257 : BitVec 32) (k0_t63 : Fin (k0_t63_loop v228 v257).trips) : Fin 5 → Nat :=
  let c1_662 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v895 : Index := Scalar.indexCast v226
  let c20_663 : Index := 20#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v896 : Index := Scalar.indexCast v382
  let c0_664 : Index := 0#32
  ![1, v895.toNat, 20, v896.toNat, 0]
def k0_off3069 (v330 : BitVec 32) : Fin 5 → Nat :=
  let c1_665 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v900 : Index := Scalar.indexCast v347
  let c21 : Index := 21#32
  let c0_666 : Index := 0#32
  let c0_667 : Index := 0#32
  ![1, v900.toNat, 21, 0, 0]
def k0_off3070 (v1 : BitVec 32) (k0_t51 : Fin (k0_t51_loop v1).trips) (v228 : BitVec 32) (v257 : BitVec 32) (k0_t63 : Fin (k0_t63_loop v228 v257).trips) : Fin 5 → Nat :=
  let c1_670 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v917 : Index := Scalar.indexCast v226
  let c21_671 : Index := 21#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v918 : Index := Scalar.indexCast v382
  let c0_672 : Index := 0#32
  ![1, v917.toNat, 21, v918.toNat, 0]
def k0_off3071 (v1 : BitVec 32) (k0_t51 : Fin (k0_t51_loop v1).trips) (v228 : BitVec 32) (v257 : BitVec 32) (k0_t63 : Fin (k0_t63_loop v228 v257).trips) : Fin 5 → Nat :=
  let c1_673 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v922 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v923 : Index := Scalar.indexCast arg19
  let c352 : Index := 352#32
  let c0_674 : Index := 0#32
  ![1, v922.toNat, v923.toNat, 352, 0]
def k0_off3072 (v330 : BitVec 32) : Fin 5 → Nat :=
  let c1_675 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v927 : Index := Scalar.indexCast v347
  let c22 : Index := 22#32
  let c0_676 : Index := 0#32
  let c0_677 : Index := 0#32
  ![1, v927.toNat, 22, 0, 0]
def k0_off3073 (v1 : BitVec 32) (k0_t51 : Fin (k0_t51_loop v1).trips) (v228 : BitVec 32) (v257 : BitVec 32) (k0_t63 : Fin (k0_t63_loop v228 v257).trips) : Fin 5 → Nat :=
  let c1_680 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v944 : Index := Scalar.indexCast v226
  let c22_681 : Index := 22#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v945 : Index := Scalar.indexCast v382
  let c0_682 : Index := 0#32
  ![1, v944.toNat, 22, v945.toNat, 0]
def k0_off3074 (v330 : BitVec 32) : Fin 5 → Nat :=
  let c1_683 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v949 : Index := Scalar.indexCast v347
  let c23 : Index := 23#32
  let c0_684 : Index := 0#32
  let c0_685 : Index := 0#32
  ![1, v949.toNat, 23, 0, 0]
def k0_off3075 (v1 : BitVec 32) (k0_t51 : Fin (k0_t51_loop v1).trips) (v228 : BitVec 32) (v257 : BitVec 32) (k0_t63 : Fin (k0_t63_loop v228 v257).trips) : Fin 5 → Nat :=
  let c1_688 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v966 : Index := Scalar.indexCast v226
  let c23_689 : Index := 23#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v967 : Index := Scalar.indexCast v382
  let c0_690 : Index := 0#32
  ![1, v966.toNat, 23, v967.toNat, 0]
def k0_off3076 (v1 : BitVec 32) (k0_t51 : Fin (k0_t51_loop v1).trips) (v228 : BitVec 32) (v257 : BitVec 32) (k0_t63 : Fin (k0_t63_loop v228 v257).trips) : Fin 5 → Nat :=
  let c1_691 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v971 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v972 : Index := Scalar.indexCast arg19
  let c384 : Index := 384#32
  let c0_692 : Index := 0#32
  ![1, v971.toNat, v972.toNat, 384, 0]
def k0_off3077 (v330 : BitVec 32) : Fin 5 → Nat :=
  let c1_693 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v976 : Index := Scalar.indexCast v347
  let c24 : Index := 24#32
  let c0_694 : Index := 0#32
  let c0_695 : Index := 0#32
  ![1, v976.toNat, 24, 0, 0]
def k0_off3078 (v1 : BitVec 32) (k0_t51 : Fin (k0_t51_loop v1).trips) (v228 : BitVec 32) (v257 : BitVec 32) (k0_t63 : Fin (k0_t63_loop v228 v257).trips) : Fin 5 → Nat :=
  let c1_698 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v993 : Index := Scalar.indexCast v226
  let c24_699 : Index := 24#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v994 : Index := Scalar.indexCast v382
  let c0_700 : Index := 0#32
  ![1, v993.toNat, 24, v994.toNat, 0]
def k0_off3079 (v330 : BitVec 32) : Fin 5 → Nat :=
  let c1_701 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v998 : Index := Scalar.indexCast v347
  let c25 : Index := 25#32
  let c0_702 : Index := 0#32
  let c0_703 : Index := 0#32
  ![1, v998.toNat, 25, 0, 0]
def k0_off3080 (v1 : BitVec 32) (k0_t51 : Fin (k0_t51_loop v1).trips) (v228 : BitVec 32) (v257 : BitVec 32) (k0_t63 : Fin (k0_t63_loop v228 v257).trips) : Fin 5 → Nat :=
  let c1_706 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1015 : Index := Scalar.indexCast v226
  let c25_707 : Index := 25#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1016 : Index := Scalar.indexCast v382
  let c0_708 : Index := 0#32
  ![1, v1015.toNat, 25, v1016.toNat, 0]
def k0_off3081 (v1 : BitVec 32) (k0_t51 : Fin (k0_t51_loop v1).trips) (v228 : BitVec 32) (v257 : BitVec 32) (k0_t63 : Fin (k0_t63_loop v228 v257).trips) : Fin 5 → Nat :=
  let c1_709 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1020 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v1021 : Index := Scalar.indexCast arg19
  let c416 : Index := 416#32
  let c0_710 : Index := 0#32
  ![1, v1020.toNat, v1021.toNat, 416, 0]
def k0_off3082 (v330 : BitVec 32) : Fin 5 → Nat :=
  let c1_711 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1025 : Index := Scalar.indexCast v347
  let c26 : Index := 26#32
  let c0_712 : Index := 0#32
  let c0_713 : Index := 0#32
  ![1, v1025.toNat, 26, 0, 0]
def k0_off3083 (v1 : BitVec 32) (k0_t51 : Fin (k0_t51_loop v1).trips) (v228 : BitVec 32) (v257 : BitVec 32) (k0_t63 : Fin (k0_t63_loop v228 v257).trips) : Fin 5 → Nat :=
  let c1_716 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1042 : Index := Scalar.indexCast v226
  let c26_717 : Index := 26#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1043 : Index := Scalar.indexCast v382
  let c0_718 : Index := 0#32
  ![1, v1042.toNat, 26, v1043.toNat, 0]
def k0_off3084 (v330 : BitVec 32) : Fin 5 → Nat :=
  let c1_719 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1047 : Index := Scalar.indexCast v347
  let c27 : Index := 27#32
  let c0_720 : Index := 0#32
  let c0_721 : Index := 0#32
  ![1, v1047.toNat, 27, 0, 0]
def k0_off3085 (v1 : BitVec 32) (k0_t51 : Fin (k0_t51_loop v1).trips) (v228 : BitVec 32) (v257 : BitVec 32) (k0_t63 : Fin (k0_t63_loop v228 v257).trips) : Fin 5 → Nat :=
  let c1_724 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1064 : Index := Scalar.indexCast v226
  let c27_725 : Index := 27#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1065 : Index := Scalar.indexCast v382
  let c0_726 : Index := 0#32
  ![1, v1064.toNat, 27, v1065.toNat, 0]
def k0_off3086 (v1 : BitVec 32) (k0_t51 : Fin (k0_t51_loop v1).trips) (v228 : BitVec 32) (v257 : BitVec 32) (k0_t63 : Fin (k0_t63_loop v228 v257).trips) : Fin 5 → Nat :=
  let c1_727 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1069 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v1070 : Index := Scalar.indexCast arg19
  let c448 : Index := 448#32
  let c0_728 : Index := 0#32
  ![1, v1069.toNat, v1070.toNat, 448, 0]
def k0_off3087 (v330 : BitVec 32) : Fin 5 → Nat :=
  let c1_729 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1074 : Index := Scalar.indexCast v347
  let c28 : Index := 28#32
  let c0_730 : Index := 0#32
  let c0_731 : Index := 0#32
  ![1, v1074.toNat, 28, 0, 0]
def k0_off3088 (v1 : BitVec 32) (k0_t51 : Fin (k0_t51_loop v1).trips) (v228 : BitVec 32) (v257 : BitVec 32) (k0_t63 : Fin (k0_t63_loop v228 v257).trips) : Fin 5 → Nat :=
  let c1_734 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1091 : Index := Scalar.indexCast v226
  let c28_735 : Index := 28#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1092 : Index := Scalar.indexCast v382
  let c0_736 : Index := 0#32
  ![1, v1091.toNat, 28, v1092.toNat, 0]
def k0_off3089 (v330 : BitVec 32) : Fin 5 → Nat :=
  let c1_737 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1096 : Index := Scalar.indexCast v347
  let c29 : Index := 29#32
  let c0_738 : Index := 0#32
  let c0_739 : Index := 0#32
  ![1, v1096.toNat, 29, 0, 0]
def k0_off3090 (v1 : BitVec 32) (k0_t51 : Fin (k0_t51_loop v1).trips) (v228 : BitVec 32) (v257 : BitVec 32) (k0_t63 : Fin (k0_t63_loop v228 v257).trips) : Fin 5 → Nat :=
  let c1_742 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1113 : Index := Scalar.indexCast v226
  let c29_743 : Index := 29#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1114 : Index := Scalar.indexCast v382
  let c0_744 : Index := 0#32
  ![1, v1113.toNat, 29, v1114.toNat, 0]
def k0_off3091 (v1 : BitVec 32) (k0_t51 : Fin (k0_t51_loop v1).trips) (v228 : BitVec 32) (v257 : BitVec 32) (k0_t63 : Fin (k0_t63_loop v228 v257).trips) : Fin 5 → Nat :=
  let c1_745 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1118 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v1119 : Index := Scalar.indexCast arg19
  let c480 : Index := 480#32
  let c0_746 : Index := 0#32
  ![1, v1118.toNat, v1119.toNat, 480, 0]
def k0_off3092 (v330 : BitVec 32) : Fin 5 → Nat :=
  let c1_747 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1123 : Index := Scalar.indexCast v347
  let c30 : Index := 30#32
  let c0_748 : Index := 0#32
  let c0_749 : Index := 0#32
  ![1, v1123.toNat, 30, 0, 0]
def k0_off3093 (v1 : BitVec 32) (k0_t51 : Fin (k0_t51_loop v1).trips) (v228 : BitVec 32) (v257 : BitVec 32) (k0_t63 : Fin (k0_t63_loop v228 v257).trips) : Fin 5 → Nat :=
  let c1_752 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1140 : Index := Scalar.indexCast v226
  let c30_753 : Index := 30#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1141 : Index := Scalar.indexCast v382
  let c0_754 : Index := 0#32
  ![1, v1140.toNat, 30, v1141.toNat, 0]
def k0_off3094 (v330 : BitVec 32) : Fin 5 → Nat :=
  let c1_755 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1145 : Index := Scalar.indexCast v347
  let c31 : Index := 31#32
  let c0_756 : Index := 0#32
  let c0_757 : Index := 0#32
  ![1, v1145.toNat, 31, 0, 0]
def k0_off3095 (v1 : BitVec 32) (k0_t51 : Fin (k0_t51_loop v1).trips) (v228 : BitVec 32) (v257 : BitVec 32) (k0_t63 : Fin (k0_t63_loop v228 v257).trips) : Fin 5 → Nat :=
  let c1_760 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1162 : Index := Scalar.indexCast v226
  let c31_761 : Index := 31#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1163 : Index := Scalar.indexCast v382
  let c0_762 : Index := 0#32
  ![1, v1162.toNat, 31, v1163.toNat, 0]
def k0_off3096 (v1 : BitVec 32) (k0_t51 : Fin (k0_t51_loop v1).trips) (v228 : BitVec 32) (v257 : BitVec 32) (k0_t63 : Fin (k0_t63_loop v228 v257).trips) : Fin 5 → Nat :=
  let c1_763 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1167 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v1168 : Index := Scalar.indexCast arg19
  let c512 : Index := 512#32
  let c0_764 : Index := 0#32
  ![1, v1167.toNat, v1168.toNat, 512, 0]
def k0_off3097 (v330 : BitVec 32) : Fin 5 → Nat :=
  let c1_765 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1172 : Index := Scalar.indexCast v347
  let c32_766 : Index := 32#32
  let c0_767 : Index := 0#32
  let c0_768 : Index := 0#32
  ![1, v1172.toNat, 32, 0, 0]
def k0_off3098 (v1 : BitVec 32) (k0_t51 : Fin (k0_t51_loop v1).trips) (v228 : BitVec 32) (v257 : BitVec 32) (k0_t63 : Fin (k0_t63_loop v228 v257).trips) : Fin 5 → Nat :=
  let c1_771 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1189 : Index := Scalar.indexCast v226
  let c32_772 : Index := 32#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1190 : Index := Scalar.indexCast v382
  let c0_773 : Index := 0#32
  ![1, v1189.toNat, 32, v1190.toNat, 0]
def k0_off3099 (v330 : BitVec 32) : Fin 5 → Nat :=
  let c1_774 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1194 : Index := Scalar.indexCast v347
  let c33 : Index := 33#32
  let c0_775 : Index := 0#32
  let c0_776 : Index := 0#32
  ![1, v1194.toNat, 33, 0, 0]
def k0_off3100 (v1 : BitVec 32) (k0_t51 : Fin (k0_t51_loop v1).trips) (v228 : BitVec 32) (v257 : BitVec 32) (k0_t63 : Fin (k0_t63_loop v228 v257).trips) : Fin 5 → Nat :=
  let c1_779 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1211 : Index := Scalar.indexCast v226
  let c33_780 : Index := 33#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1212 : Index := Scalar.indexCast v382
  let c0_781 : Index := 0#32
  ![1, v1211.toNat, 33, v1212.toNat, 0]
def k0_off3101 (v1 : BitVec 32) (k0_t51 : Fin (k0_t51_loop v1).trips) (v228 : BitVec 32) (v257 : BitVec 32) (k0_t63 : Fin (k0_t63_loop v228 v257).trips) : Fin 5 → Nat :=
  let c1_782 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1216 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v1217 : Index := Scalar.indexCast arg19
  let c544 : Index := 544#32
  let c0_783 : Index := 0#32
  ![1, v1216.toNat, v1217.toNat, 544, 0]
def k0_off3102 (v330 : BitVec 32) : Fin 5 → Nat :=
  let c1_784 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1221 : Index := Scalar.indexCast v347
  let c34 : Index := 34#32
  let c0_785 : Index := 0#32
  let c0_786 : Index := 0#32
  ![1, v1221.toNat, 34, 0, 0]
def k0_off3103 (v1 : BitVec 32) (k0_t51 : Fin (k0_t51_loop v1).trips) (v228 : BitVec 32) (v257 : BitVec 32) (k0_t63 : Fin (k0_t63_loop v228 v257).trips) : Fin 5 → Nat :=
  let c1_789 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1238 : Index := Scalar.indexCast v226
  let c34_790 : Index := 34#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1239 : Index := Scalar.indexCast v382
  let c0_791 : Index := 0#32
  ![1, v1238.toNat, 34, v1239.toNat, 0]
def k0_off3104 (v330 : BitVec 32) : Fin 5 → Nat :=
  let c1_792 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1243 : Index := Scalar.indexCast v347
  let c35 : Index := 35#32
  let c0_793 : Index := 0#32
  let c0_794 : Index := 0#32
  ![1, v1243.toNat, 35, 0, 0]
def k0_off3105 (v1 : BitVec 32) (k0_t51 : Fin (k0_t51_loop v1).trips) (v228 : BitVec 32) (v257 : BitVec 32) (k0_t63 : Fin (k0_t63_loop v228 v257).trips) : Fin 5 → Nat :=
  let c1_797 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1260 : Index := Scalar.indexCast v226
  let c35_798 : Index := 35#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1261 : Index := Scalar.indexCast v382
  let c0_799 : Index := 0#32
  ![1, v1260.toNat, 35, v1261.toNat, 0]
def k0_off3106 (v1 : BitVec 32) (k0_t51 : Fin (k0_t51_loop v1).trips) (v228 : BitVec 32) (v257 : BitVec 32) (k0_t63 : Fin (k0_t63_loop v228 v257).trips) : Fin 5 → Nat :=
  let c1_800 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1265 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v1266 : Index := Scalar.indexCast arg19
  let c576 : Index := 576#32
  let c0_801 : Index := 0#32
  ![1, v1265.toNat, v1266.toNat, 576, 0]
def k0_off3107 (v330 : BitVec 32) : Fin 5 → Nat :=
  let c1_802 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1270 : Index := Scalar.indexCast v347
  let c36 : Index := 36#32
  let c0_803 : Index := 0#32
  let c0_804 : Index := 0#32
  ![1, v1270.toNat, 36, 0, 0]
def k0_off3108 (v1 : BitVec 32) (k0_t51 : Fin (k0_t51_loop v1).trips) (v228 : BitVec 32) (v257 : BitVec 32) (k0_t63 : Fin (k0_t63_loop v228 v257).trips) : Fin 5 → Nat :=
  let c1_807 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1287 : Index := Scalar.indexCast v226
  let c36_808 : Index := 36#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1288 : Index := Scalar.indexCast v382
  let c0_809 : Index := 0#32
  ![1, v1287.toNat, 36, v1288.toNat, 0]
def k0_off3109 (v330 : BitVec 32) : Fin 5 → Nat :=
  let c1_810 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1292 : Index := Scalar.indexCast v347
  let c37 : Index := 37#32
  let c0_811 : Index := 0#32
  let c0_812 : Index := 0#32
  ![1, v1292.toNat, 37, 0, 0]
def k0_off3110 (v1 : BitVec 32) (k0_t51 : Fin (k0_t51_loop v1).trips) (v228 : BitVec 32) (v257 : BitVec 32) (k0_t63 : Fin (k0_t63_loop v228 v257).trips) : Fin 5 → Nat :=
  let c1_815 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1309 : Index := Scalar.indexCast v226
  let c37_816 : Index := 37#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1310 : Index := Scalar.indexCast v382
  let c0_817 : Index := 0#32
  ![1, v1309.toNat, 37, v1310.toNat, 0]
def k0_off3111 (v1 : BitVec 32) (k0_t51 : Fin (k0_t51_loop v1).trips) (v228 : BitVec 32) (v257 : BitVec 32) (k0_t63 : Fin (k0_t63_loop v228 v257).trips) : Fin 5 → Nat :=
  let c1_818 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1314 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v1315 : Index := Scalar.indexCast arg19
  let c608 : Index := 608#32
  let c0_819 : Index := 0#32
  ![1, v1314.toNat, v1315.toNat, 608, 0]
def k0_off3112 (v330 : BitVec 32) : Fin 5 → Nat :=
  let c1_820 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1319 : Index := Scalar.indexCast v347
  let c38 : Index := 38#32
  let c0_821 : Index := 0#32
  let c0_822 : Index := 0#32
  ![1, v1319.toNat, 38, 0, 0]
def k0_off3113 (v1 : BitVec 32) (k0_t51 : Fin (k0_t51_loop v1).trips) (v228 : BitVec 32) (v257 : BitVec 32) (k0_t63 : Fin (k0_t63_loop v228 v257).trips) : Fin 5 → Nat :=
  let c1_825 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1336 : Index := Scalar.indexCast v226
  let c38_826 : Index := 38#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1337 : Index := Scalar.indexCast v382
  let c0_827 : Index := 0#32
  ![1, v1336.toNat, 38, v1337.toNat, 0]
def k0_off3114 (v330 : BitVec 32) : Fin 5 → Nat :=
  let c1_828 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1341 : Index := Scalar.indexCast v347
  let c39 : Index := 39#32
  let c0_829 : Index := 0#32
  let c0_830 : Index := 0#32
  ![1, v1341.toNat, 39, 0, 0]
def k0_off3115 (v1 : BitVec 32) (k0_t51 : Fin (k0_t51_loop v1).trips) (v228 : BitVec 32) (v257 : BitVec 32) (k0_t63 : Fin (k0_t63_loop v228 v257).trips) : Fin 5 → Nat :=
  let c1_833 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1358 : Index := Scalar.indexCast v226
  let c39_834 : Index := 39#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1359 : Index := Scalar.indexCast v382
  let c0_835 : Index := 0#32
  ![1, v1358.toNat, 39, v1359.toNat, 0]
def k0_off3116 (v1 : BitVec 32) (k0_t51 : Fin (k0_t51_loop v1).trips) (v228 : BitVec 32) (v257 : BitVec 32) (k0_t63 : Fin (k0_t63_loop v228 v257).trips) : Fin 5 → Nat :=
  let c1_836 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1363 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v1364 : Index := Scalar.indexCast arg19
  let c640 : Index := 640#32
  let c0_837 : Index := 0#32
  ![1, v1363.toNat, v1364.toNat, 640, 0]
def k0_off3117 (v330 : BitVec 32) : Fin 5 → Nat :=
  let c1_838 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1368 : Index := Scalar.indexCast v347
  let c40 : Index := 40#32
  let c0_839 : Index := 0#32
  let c0_840 : Index := 0#32
  ![1, v1368.toNat, 40, 0, 0]
def k0_off3118 (v1 : BitVec 32) (k0_t51 : Fin (k0_t51_loop v1).trips) (v228 : BitVec 32) (v257 : BitVec 32) (k0_t63 : Fin (k0_t63_loop v228 v257).trips) : Fin 5 → Nat :=
  let c1_843 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1385 : Index := Scalar.indexCast v226
  let c40_844 : Index := 40#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1386 : Index := Scalar.indexCast v382
  let c0_845 : Index := 0#32
  ![1, v1385.toNat, 40, v1386.toNat, 0]
def k0_off3119 (v330 : BitVec 32) : Fin 5 → Nat :=
  let c1_846 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1390 : Index := Scalar.indexCast v347
  let c41 : Index := 41#32
  let c0_847 : Index := 0#32
  let c0_848 : Index := 0#32
  ![1, v1390.toNat, 41, 0, 0]
def k0_off3120 (v1 : BitVec 32) (k0_t51 : Fin (k0_t51_loop v1).trips) (v228 : BitVec 32) (v257 : BitVec 32) (k0_t63 : Fin (k0_t63_loop v228 v257).trips) : Fin 5 → Nat :=
  let c1_851 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1407 : Index := Scalar.indexCast v226
  let c41_852 : Index := 41#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1408 : Index := Scalar.indexCast v382
  let c0_853 : Index := 0#32
  ![1, v1407.toNat, 41, v1408.toNat, 0]
def k0_off3121 (v1 : BitVec 32) (k0_t51 : Fin (k0_t51_loop v1).trips) (v228 : BitVec 32) (v257 : BitVec 32) (k0_t63 : Fin (k0_t63_loop v228 v257).trips) : Fin 5 → Nat :=
  let c1_854 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1412 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v1413 : Index := Scalar.indexCast arg19
  let c672 : Index := 672#32
  let c0_855 : Index := 0#32
  ![1, v1412.toNat, v1413.toNat, 672, 0]
def k0_off3122 (v330 : BitVec 32) : Fin 5 → Nat :=
  let c1_856 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1417 : Index := Scalar.indexCast v347
  let c42 : Index := 42#32
  let c0_857 : Index := 0#32
  let c0_858 : Index := 0#32
  ![1, v1417.toNat, 42, 0, 0]
def k0_off3123 (v1 : BitVec 32) (k0_t51 : Fin (k0_t51_loop v1).trips) (v228 : BitVec 32) (v257 : BitVec 32) (k0_t63 : Fin (k0_t63_loop v228 v257).trips) : Fin 5 → Nat :=
  let c1_861 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1434 : Index := Scalar.indexCast v226
  let c42_862 : Index := 42#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1435 : Index := Scalar.indexCast v382
  let c0_863 : Index := 0#32
  ![1, v1434.toNat, 42, v1435.toNat, 0]
def k0_off3124 (v330 : BitVec 32) : Fin 5 → Nat :=
  let c1_864 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1439 : Index := Scalar.indexCast v347
  let c43 : Index := 43#32
  let c0_865 : Index := 0#32
  let c0_866 : Index := 0#32
  ![1, v1439.toNat, 43, 0, 0]
def k0_off3125 (v1 : BitVec 32) (k0_t51 : Fin (k0_t51_loop v1).trips) (v228 : BitVec 32) (v257 : BitVec 32) (k0_t63 : Fin (k0_t63_loop v228 v257).trips) : Fin 5 → Nat :=
  let c1_869 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1456 : Index := Scalar.indexCast v226
  let c43_870 : Index := 43#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1457 : Index := Scalar.indexCast v382
  let c0_871 : Index := 0#32
  ![1, v1456.toNat, 43, v1457.toNat, 0]
def k0_off3126 (v1 : BitVec 32) (k0_t51 : Fin (k0_t51_loop v1).trips) (v228 : BitVec 32) (v257 : BitVec 32) (k0_t63 : Fin (k0_t63_loop v228 v257).trips) : Fin 5 → Nat :=
  let c1_872 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1461 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v1462 : Index := Scalar.indexCast arg19
  let c704 : Index := 704#32
  let c0_873 : Index := 0#32
  ![1, v1461.toNat, v1462.toNat, 704, 0]
def k0_off3127 (v330 : BitVec 32) : Fin 5 → Nat :=
  let c1_874 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1466 : Index := Scalar.indexCast v347
  let c44 : Index := 44#32
  let c0_875 : Index := 0#32
  let c0_876 : Index := 0#32
  ![1, v1466.toNat, 44, 0, 0]
def k0_off3128 (v1 : BitVec 32) (k0_t51 : Fin (k0_t51_loop v1).trips) (v228 : BitVec 32) (v257 : BitVec 32) (k0_t63 : Fin (k0_t63_loop v228 v257).trips) : Fin 5 → Nat :=
  let c1_879 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1483 : Index := Scalar.indexCast v226
  let c44_880 : Index := 44#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1484 : Index := Scalar.indexCast v382
  let c0_881 : Index := 0#32
  ![1, v1483.toNat, 44, v1484.toNat, 0]
def k0_off3129 (v330 : BitVec 32) : Fin 5 → Nat :=
  let c1_882 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1488 : Index := Scalar.indexCast v347
  let c45 : Index := 45#32
  let c0_883 : Index := 0#32
  let c0_884 : Index := 0#32
  ![1, v1488.toNat, 45, 0, 0]
def k0_off3130 (v1 : BitVec 32) (k0_t51 : Fin (k0_t51_loop v1).trips) (v228 : BitVec 32) (v257 : BitVec 32) (k0_t63 : Fin (k0_t63_loop v228 v257).trips) : Fin 5 → Nat :=
  let c1_887 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1505 : Index := Scalar.indexCast v226
  let c45_888 : Index := 45#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1506 : Index := Scalar.indexCast v382
  let c0_889 : Index := 0#32
  ![1, v1505.toNat, 45, v1506.toNat, 0]
def k0_off3131 (v1 : BitVec 32) (k0_t51 : Fin (k0_t51_loop v1).trips) (v228 : BitVec 32) (v257 : BitVec 32) (k0_t63 : Fin (k0_t63_loop v228 v257).trips) : Fin 5 → Nat :=
  let c1_890 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1510 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v1511 : Index := Scalar.indexCast arg19
  let c736 : Index := 736#32
  let c0_891 : Index := 0#32
  ![1, v1510.toNat, v1511.toNat, 736, 0]
def k0_off3132 (v330 : BitVec 32) : Fin 5 → Nat :=
  let c1_892 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1515 : Index := Scalar.indexCast v347
  let c46 : Index := 46#32
  let c0_893 : Index := 0#32
  let c0_894 : Index := 0#32
  ![1, v1515.toNat, 46, 0, 0]
def k0_off3133 (v1 : BitVec 32) (k0_t51 : Fin (k0_t51_loop v1).trips) (v228 : BitVec 32) (v257 : BitVec 32) (k0_t63 : Fin (k0_t63_loop v228 v257).trips) : Fin 5 → Nat :=
  let c1_897 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1532 : Index := Scalar.indexCast v226
  let c46_898 : Index := 46#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1533 : Index := Scalar.indexCast v382
  let c0_899 : Index := 0#32
  ![1, v1532.toNat, 46, v1533.toNat, 0]
def k0_off3134 (v330 : BitVec 32) : Fin 5 → Nat :=
  let c1_900 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1537 : Index := Scalar.indexCast v347
  let c47 : Index := 47#32
  let c0_901 : Index := 0#32
  let c0_902 : Index := 0#32
  ![1, v1537.toNat, 47, 0, 0]
def k0_off3135 (v1 : BitVec 32) (k0_t51 : Fin (k0_t51_loop v1).trips) (v228 : BitVec 32) (v257 : BitVec 32) (k0_t63 : Fin (k0_t63_loop v228 v257).trips) : Fin 5 → Nat :=
  let c1_905 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1554 : Index := Scalar.indexCast v226
  let c47_906 : Index := 47#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1555 : Index := Scalar.indexCast v382
  let c0_907 : Index := 0#32
  ![1, v1554.toNat, 47, v1555.toNat, 0]
def k0_off3136 (v1 : BitVec 32) (k0_t51 : Fin (k0_t51_loop v1).trips) (v228 : BitVec 32) (v257 : BitVec 32) (k0_t63 : Fin (k0_t63_loop v228 v257).trips) : Fin 5 → Nat :=
  let c1_908 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1559 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v1560 : Index := Scalar.indexCast arg19
  let c768 : Index := 768#32
  let c0_909 : Index := 0#32
  ![1, v1559.toNat, v1560.toNat, 768, 0]
def k0_off3137 (v330 : BitVec 32) : Fin 5 → Nat :=
  let c1_910 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1564 : Index := Scalar.indexCast v347
  let c48 : Index := 48#32
  let c0_911 : Index := 0#32
  let c0_912 : Index := 0#32
  ![1, v1564.toNat, 48, 0, 0]
def k0_off3138 (v1 : BitVec 32) (k0_t51 : Fin (k0_t51_loop v1).trips) (v228 : BitVec 32) (v257 : BitVec 32) (k0_t63 : Fin (k0_t63_loop v228 v257).trips) : Fin 5 → Nat :=
  let c1_915 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1581 : Index := Scalar.indexCast v226
  let c48_916 : Index := 48#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1582 : Index := Scalar.indexCast v382
  let c0_917 : Index := 0#32
  ![1, v1581.toNat, 48, v1582.toNat, 0]
def k0_off3139 (v330 : BitVec 32) : Fin 5 → Nat :=
  let c1_918 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1586 : Index := Scalar.indexCast v347
  let c49 : Index := 49#32
  let c0_919 : Index := 0#32
  let c0_920 : Index := 0#32
  ![1, v1586.toNat, 49, 0, 0]
def k0_off3140 (v1 : BitVec 32) (k0_t51 : Fin (k0_t51_loop v1).trips) (v228 : BitVec 32) (v257 : BitVec 32) (k0_t63 : Fin (k0_t63_loop v228 v257).trips) : Fin 5 → Nat :=
  let c1_923 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1603 : Index := Scalar.indexCast v226
  let c49_924 : Index := 49#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1604 : Index := Scalar.indexCast v382
  let c0_925 : Index := 0#32
  ![1, v1603.toNat, 49, v1604.toNat, 0]
def k0_off3141 (v1 : BitVec 32) (k0_t51 : Fin (k0_t51_loop v1).trips) (v228 : BitVec 32) (v257 : BitVec 32) (k0_t63 : Fin (k0_t63_loop v228 v257).trips) : Fin 5 → Nat :=
  let c1_926 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1608 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v1609 : Index := Scalar.indexCast arg19
  let c800 : Index := 800#32
  let c0_927 : Index := 0#32
  ![1, v1608.toNat, v1609.toNat, 800, 0]
def k0_off3142 (v330 : BitVec 32) : Fin 5 → Nat :=
  let c1_928 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1613 : Index := Scalar.indexCast v347
  let c50 : Index := 50#32
  let c0_929 : Index := 0#32
  let c0_930 : Index := 0#32
  ![1, v1613.toNat, 50, 0, 0]
def k0_off3143 (v1 : BitVec 32) (k0_t51 : Fin (k0_t51_loop v1).trips) (v228 : BitVec 32) (v257 : BitVec 32) (k0_t63 : Fin (k0_t63_loop v228 v257).trips) : Fin 5 → Nat :=
  let c1_933 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1630 : Index := Scalar.indexCast v226
  let c50_934 : Index := 50#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1631 : Index := Scalar.indexCast v382
  let c0_935 : Index := 0#32
  ![1, v1630.toNat, 50, v1631.toNat, 0]
def k0_off3144 (v330 : BitVec 32) : Fin 5 → Nat :=
  let c1_936 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1635 : Index := Scalar.indexCast v347
  let c51 : Index := 51#32
  let c0_937 : Index := 0#32
  let c0_938 : Index := 0#32
  ![1, v1635.toNat, 51, 0, 0]
def k0_off3145 (v1 : BitVec 32) (k0_t51 : Fin (k0_t51_loop v1).trips) (v228 : BitVec 32) (v257 : BitVec 32) (k0_t63 : Fin (k0_t63_loop v228 v257).trips) : Fin 5 → Nat :=
  let c1_941 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1652 : Index := Scalar.indexCast v226
  let c51_942 : Index := 51#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1653 : Index := Scalar.indexCast v382
  let c0_943 : Index := 0#32
  ![1, v1652.toNat, 51, v1653.toNat, 0]
def k0_off3146 (v1 : BitVec 32) (k0_t51 : Fin (k0_t51_loop v1).trips) (v228 : BitVec 32) (v257 : BitVec 32) (k0_t63 : Fin (k0_t63_loop v228 v257).trips) : Fin 5 → Nat :=
  let c1_944 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1657 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v1658 : Index := Scalar.indexCast arg19
  let c832 : Index := 832#32
  let c0_945 : Index := 0#32
  ![1, v1657.toNat, v1658.toNat, 832, 0]

variable {F : FTy → Type} [BitOps F]

def k0_off3147 (v330 : BitVec 32) : Fin 5 → Nat :=
  let c1_946 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1662 : Index := Scalar.indexCast v347
  let c52 : Index := 52#32
  let c0_947 : Index := 0#32
  let c0_948 : Index := 0#32
  ![1, v1662.toNat, 52, 0, 0]
def k0_off3148 (v1 : BitVec 32) (k0_t51 : Fin (k0_t51_loop v1).trips) (v228 : BitVec 32) (v257 : BitVec 32) (k0_t63 : Fin (k0_t63_loop v228 v257).trips) : Fin 5 → Nat :=
  let c1_951 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1679 : Index := Scalar.indexCast v226
  let c52_952 : Index := 52#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1680 : Index := Scalar.indexCast v382
  let c0_953 : Index := 0#32
  ![1, v1679.toNat, 52, v1680.toNat, 0]
def k0_off3149 (v330 : BitVec 32) : Fin 5 → Nat :=
  let c1_954 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1684 : Index := Scalar.indexCast v347
  let c53 : Index := 53#32
  let c0_955 : Index := 0#32
  let c0_956 : Index := 0#32
  ![1, v1684.toNat, 53, 0, 0]
def k0_off3150 (v1 : BitVec 32) (k0_t51 : Fin (k0_t51_loop v1).trips) (v228 : BitVec 32) (v257 : BitVec 32) (k0_t63 : Fin (k0_t63_loop v228 v257).trips) : Fin 5 → Nat :=
  let c1_959 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1701 : Index := Scalar.indexCast v226
  let c53_960 : Index := 53#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1702 : Index := Scalar.indexCast v382
  let c0_961 : Index := 0#32
  ![1, v1701.toNat, 53, v1702.toNat, 0]
def k0_off3151 (v1 : BitVec 32) (k0_t51 : Fin (k0_t51_loop v1).trips) (v228 : BitVec 32) (v257 : BitVec 32) (k0_t63 : Fin (k0_t63_loop v228 v257).trips) : Fin 5 → Nat :=
  let c1_962 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1706 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v1707 : Index := Scalar.indexCast arg19
  let c864 : Index := 864#32
  let c0_963 : Index := 0#32
  ![1, v1706.toNat, v1707.toNat, 864, 0]
def k0_off3152 (v330 : BitVec 32) : Fin 5 → Nat :=
  let c1_964 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1711 : Index := Scalar.indexCast v347
  let c54 : Index := 54#32
  let c0_965 : Index := 0#32
  let c0_966 : Index := 0#32
  ![1, v1711.toNat, 54, 0, 0]
def k0_off3153 (v1 : BitVec 32) (k0_t51 : Fin (k0_t51_loop v1).trips) (v228 : BitVec 32) (v257 : BitVec 32) (k0_t63 : Fin (k0_t63_loop v228 v257).trips) : Fin 5 → Nat :=
  let c1_969 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1728 : Index := Scalar.indexCast v226
  let c54_970 : Index := 54#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1729 : Index := Scalar.indexCast v382
  let c0_971 : Index := 0#32
  ![1, v1728.toNat, 54, v1729.toNat, 0]
def k0_off3154 (v330 : BitVec 32) : Fin 5 → Nat :=
  let c1_972 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1733 : Index := Scalar.indexCast v347
  let c55 : Index := 55#32
  let c0_973 : Index := 0#32
  let c0_974 : Index := 0#32
  ![1, v1733.toNat, 55, 0, 0]
def k0_off3155 (v1 : BitVec 32) (k0_t51 : Fin (k0_t51_loop v1).trips) (v228 : BitVec 32) (v257 : BitVec 32) (k0_t63 : Fin (k0_t63_loop v228 v257).trips) : Fin 5 → Nat :=
  let c1_977 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1750 : Index := Scalar.indexCast v226
  let c55_978 : Index := 55#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1751 : Index := Scalar.indexCast v382
  let c0_979 : Index := 0#32
  ![1, v1750.toNat, 55, v1751.toNat, 0]
def k0_off3156 (v1 : BitVec 32) (k0_t51 : Fin (k0_t51_loop v1).trips) (v228 : BitVec 32) (v257 : BitVec 32) (k0_t63 : Fin (k0_t63_loop v228 v257).trips) : Fin 5 → Nat :=
  let c1_980 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1755 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v1756 : Index := Scalar.indexCast arg19
  let c896 : Index := 896#32
  let c0_981 : Index := 0#32
  ![1, v1755.toNat, v1756.toNat, 896, 0]
def k0_off3157 (v330 : BitVec 32) : Fin 5 → Nat :=
  let c1_982 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1760 : Index := Scalar.indexCast v347
  let c56 : Index := 56#32
  let c0_983 : Index := 0#32
  let c0_984 : Index := 0#32
  ![1, v1760.toNat, 56, 0, 0]
def k0_off3158 (v1 : BitVec 32) (k0_t51 : Fin (k0_t51_loop v1).trips) (v228 : BitVec 32) (v257 : BitVec 32) (k0_t63 : Fin (k0_t63_loop v228 v257).trips) : Fin 5 → Nat :=
  let c1_987 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1777 : Index := Scalar.indexCast v226
  let c56_988 : Index := 56#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1778 : Index := Scalar.indexCast v382
  let c0_989 : Index := 0#32
  ![1, v1777.toNat, 56, v1778.toNat, 0]
def k0_off3159 (v330 : BitVec 32) : Fin 5 → Nat :=
  let c1_990 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1782 : Index := Scalar.indexCast v347
  let c57 : Index := 57#32
  let c0_991 : Index := 0#32
  let c0_992 : Index := 0#32
  ![1, v1782.toNat, 57, 0, 0]
def k0_off3160 (v1 : BitVec 32) (k0_t51 : Fin (k0_t51_loop v1).trips) (v228 : BitVec 32) (v257 : BitVec 32) (k0_t63 : Fin (k0_t63_loop v228 v257).trips) : Fin 5 → Nat :=
  let c1_995 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1799 : Index := Scalar.indexCast v226
  let c57_996 : Index := 57#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1800 : Index := Scalar.indexCast v382
  let c0_997 : Index := 0#32
  ![1, v1799.toNat, 57, v1800.toNat, 0]
def k0_off3161 (v1 : BitVec 32) (k0_t51 : Fin (k0_t51_loop v1).trips) (v228 : BitVec 32) (v257 : BitVec 32) (k0_t63 : Fin (k0_t63_loop v228 v257).trips) : Fin 5 → Nat :=
  let c1_998 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1804 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v1805 : Index := Scalar.indexCast arg19
  let c928 : Index := 928#32
  let c0_999 : Index := 0#32
  ![1, v1804.toNat, v1805.toNat, 928, 0]
def k0_off3162 (v330 : BitVec 32) : Fin 5 → Nat :=
  let c1_1000 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1809 : Index := Scalar.indexCast v347
  let c58 : Index := 58#32
  let c0_1001 : Index := 0#32
  let c0_1002 : Index := 0#32
  ![1, v1809.toNat, 58, 0, 0]
def k0_off3163 (v1 : BitVec 32) (k0_t51 : Fin (k0_t51_loop v1).trips) (v228 : BitVec 32) (v257 : BitVec 32) (k0_t63 : Fin (k0_t63_loop v228 v257).trips) : Fin 5 → Nat :=
  let c1_1005 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1826 : Index := Scalar.indexCast v226
  let c58_1006 : Index := 58#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1827 : Index := Scalar.indexCast v382
  let c0_1007 : Index := 0#32
  ![1, v1826.toNat, 58, v1827.toNat, 0]
def k0_off3164 (v330 : BitVec 32) : Fin 5 → Nat :=
  let c1_1008 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1831 : Index := Scalar.indexCast v347
  let c59 : Index := 59#32
  let c0_1009 : Index := 0#32
  let c0_1010 : Index := 0#32
  ![1, v1831.toNat, 59, 0, 0]
def k0_off3165 (v1 : BitVec 32) (k0_t51 : Fin (k0_t51_loop v1).trips) (v228 : BitVec 32) (v257 : BitVec 32) (k0_t63 : Fin (k0_t63_loop v228 v257).trips) : Fin 5 → Nat :=
  let c1_1013 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1848 : Index := Scalar.indexCast v226
  let c59_1014 : Index := 59#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1849 : Index := Scalar.indexCast v382
  let c0_1015 : Index := 0#32
  ![1, v1848.toNat, 59, v1849.toNat, 0]
def k0_off3166 (v1 : BitVec 32) (k0_t51 : Fin (k0_t51_loop v1).trips) (v228 : BitVec 32) (v257 : BitVec 32) (k0_t63 : Fin (k0_t63_loop v228 v257).trips) : Fin 5 → Nat :=
  let c1_1016 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1853 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v1854 : Index := Scalar.indexCast arg19
  let c960 : Index := 960#32
  let c0_1017 : Index := 0#32
  ![1, v1853.toNat, v1854.toNat, 960, 0]
def k0_off3167 (v330 : BitVec 32) : Fin 5 → Nat :=
  let c1_1018 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1858 : Index := Scalar.indexCast v347
  let c60 : Index := 60#32
  let c0_1019 : Index := 0#32
  let c0_1020 : Index := 0#32
  ![1, v1858.toNat, 60, 0, 0]
def k0_off3168 (v1 : BitVec 32) (k0_t51 : Fin (k0_t51_loop v1).trips) (v228 : BitVec 32) (v257 : BitVec 32) (k0_t63 : Fin (k0_t63_loop v228 v257).trips) : Fin 5 → Nat :=
  let c1_1023 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1875 : Index := Scalar.indexCast v226
  let c60_1024 : Index := 60#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1876 : Index := Scalar.indexCast v382
  let c0_1025 : Index := 0#32
  ![1, v1875.toNat, 60, v1876.toNat, 0]
def k0_off3169 (v330 : BitVec 32) : Fin 5 → Nat :=
  let c1_1026 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1880 : Index := Scalar.indexCast v347
  let c61 : Index := 61#32
  let c0_1027 : Index := 0#32
  let c0_1028 : Index := 0#32
  ![1, v1880.toNat, 61, 0, 0]
def k0_off3170 (v1 : BitVec 32) (k0_t51 : Fin (k0_t51_loop v1).trips) (v228 : BitVec 32) (v257 : BitVec 32) (k0_t63 : Fin (k0_t63_loop v228 v257).trips) : Fin 5 → Nat :=
  let c1_1031 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1897 : Index := Scalar.indexCast v226
  let c61_1032 : Index := 61#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1898 : Index := Scalar.indexCast v382
  let c0_1033 : Index := 0#32
  ![1, v1897.toNat, 61, v1898.toNat, 0]
def k0_off3171 (v1 : BitVec 32) (k0_t51 : Fin (k0_t51_loop v1).trips) (v228 : BitVec 32) (v257 : BitVec 32) (k0_t63 : Fin (k0_t63_loop v228 v257).trips) : Fin 5 → Nat :=
  let c1_1034 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1902 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v1903 : Index := Scalar.indexCast arg19
  let c992 : Index := 992#32
  let c0_1035 : Index := 0#32
  ![1, v1902.toNat, v1903.toNat, 992, 0]
def k0_off3172 (v330 : BitVec 32) : Fin 5 → Nat :=
  let c1_1036 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1907 : Index := Scalar.indexCast v347
  let c62 : Index := 62#32
  let c0_1037 : Index := 0#32
  let c0_1038 : Index := 0#32
  ![1, v1907.toNat, 62, 0, 0]
def k0_off3173 (v1 : BitVec 32) (k0_t51 : Fin (k0_t51_loop v1).trips) (v228 : BitVec 32) (v257 : BitVec 32) (k0_t63 : Fin (k0_t63_loop v228 v257).trips) : Fin 5 → Nat :=
  let c1_1041 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1924 : Index := Scalar.indexCast v226
  let c62_1042 : Index := 62#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1925 : Index := Scalar.indexCast v382
  let c0_1043 : Index := 0#32
  ![1, v1924.toNat, 62, v1925.toNat, 0]
def k0_off3174 (v330 : BitVec 32) : Fin 5 → Nat :=
  let c1_1044 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1929 : Index := Scalar.indexCast v347
  let c63 : Index := 63#32
  let c0_1045 : Index := 0#32
  let c0_1046 : Index := 0#32
  ![1, v1929.toNat, 63, 0, 0]
def k0_off3175 (v1 : BitVec 32) (k0_t51 : Fin (k0_t51_loop v1).trips) (v228 : BitVec 32) (v257 : BitVec 32) (k0_t63 : Fin (k0_t63_loop v228 v257).trips) : Fin 5 → Nat :=
  let c1_1049 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1946 : Index := Scalar.indexCast v226
  let c63_1050 : Index := 63#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1947 : Index := Scalar.indexCast v382
  let c0_1051 : Index := 0#32
  ![1, v1946.toNat, 63, v1947.toNat, 0]
def k0_off3176 (v1 : BitVec 32) (k0_t51 : Fin (k0_t51_loop v1).trips) (v228 : BitVec 32) (v257 : BitVec 32) (k0_t63 : Fin (k0_t63_loop v228 v257).trips) : Fin 5 → Nat :=
  let c1_1052 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1951 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v1952 : Index := Scalar.indexCast arg19
  let c1024 : Index := 1024#32
  let c0_1053 : Index := 0#32
  ![1, v1951.toNat, v1952.toNat, 1024, 0]
def k0_off3177 (v330 : BitVec 32) : Fin 5 → Nat :=
  let c1_1054 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1956 : Index := Scalar.indexCast v347
  let c64_1055 : Index := 64#32
  let c0_1056 : Index := 0#32
  let c0_1057 : Index := 0#32
  ![1, v1956.toNat, 64, 0, 0]
def k0_off3178 (v1 : BitVec 32) (k0_t51 : Fin (k0_t51_loop v1).trips) (v228 : BitVec 32) (v257 : BitVec 32) (k0_t63 : Fin (k0_t63_loop v228 v257).trips) : Fin 5 → Nat :=
  let c1_1060 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1973 : Index := Scalar.indexCast v226
  let c64_1061 : Index := 64#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1974 : Index := Scalar.indexCast v382
  let c0_1062 : Index := 0#32
  ![1, v1973.toNat, 64, v1974.toNat, 0]
def k0_off3179 (v330 : BitVec 32) : Fin 5 → Nat :=
  let c1_1063 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v1978 : Index := Scalar.indexCast v347
  let c65 : Index := 65#32
  let c0_1064 : Index := 0#32
  let c0_1065 : Index := 0#32
  ![1, v1978.toNat, 65, 0, 0]
def k0_off3180 (v1 : BitVec 32) (k0_t51 : Fin (k0_t51_loop v1).trips) (v228 : BitVec 32) (v257 : BitVec 32) (k0_t63 : Fin (k0_t63_loop v228 v257).trips) : Fin 5 → Nat :=
  let c1_1068 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v1995 : Index := Scalar.indexCast v226
  let c65_1069 : Index := 65#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v1996 : Index := Scalar.indexCast v382
  let c0_1070 : Index := 0#32
  ![1, v1995.toNat, 65, v1996.toNat, 0]
def k0_off3181 (v1 : BitVec 32) (k0_t51 : Fin (k0_t51_loop v1).trips) (v228 : BitVec 32) (v257 : BitVec 32) (k0_t63 : Fin (k0_t63_loop v228 v257).trips) : Fin 5 → Nat :=
  let c1_1071 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2000 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v2001 : Index := Scalar.indexCast arg19
  let c1056 : Index := 1056#32
  let c0_1072 : Index := 0#32
  ![1, v2000.toNat, v2001.toNat, 1056, 0]
def k0_off3182 (v330 : BitVec 32) : Fin 5 → Nat :=
  let c1_1073 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2005 : Index := Scalar.indexCast v347
  let c66 : Index := 66#32
  let c0_1074 : Index := 0#32
  let c0_1075 : Index := 0#32
  ![1, v2005.toNat, 66, 0, 0]
def k0_off3183 (v1 : BitVec 32) (k0_t51 : Fin (k0_t51_loop v1).trips) (v228 : BitVec 32) (v257 : BitVec 32) (k0_t63 : Fin (k0_t63_loop v228 v257).trips) : Fin 5 → Nat :=
  let c1_1078 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2022 : Index := Scalar.indexCast v226
  let c66_1079 : Index := 66#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2023 : Index := Scalar.indexCast v382
  let c0_1080 : Index := 0#32
  ![1, v2022.toNat, 66, v2023.toNat, 0]
def k0_off3184 (v330 : BitVec 32) : Fin 5 → Nat :=
  let c1_1081 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2027 : Index := Scalar.indexCast v347
  let c67 : Index := 67#32
  let c0_1082 : Index := 0#32
  let c0_1083 : Index := 0#32
  ![1, v2027.toNat, 67, 0, 0]
def k0_off3185 (v1 : BitVec 32) (k0_t51 : Fin (k0_t51_loop v1).trips) (v228 : BitVec 32) (v257 : BitVec 32) (k0_t63 : Fin (k0_t63_loop v228 v257).trips) : Fin 5 → Nat :=
  let c1_1086 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2044 : Index := Scalar.indexCast v226
  let c67_1087 : Index := 67#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2045 : Index := Scalar.indexCast v382
  let c0_1088 : Index := 0#32
  ![1, v2044.toNat, 67, v2045.toNat, 0]
def k0_off3186 (v1 : BitVec 32) (k0_t51 : Fin (k0_t51_loop v1).trips) (v228 : BitVec 32) (v257 : BitVec 32) (k0_t63 : Fin (k0_t63_loop v228 v257).trips) : Fin 5 → Nat :=
  let c1_1089 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2049 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v2050 : Index := Scalar.indexCast arg19
  let c1088 : Index := 1088#32
  let c0_1090 : Index := 0#32
  ![1, v2049.toNat, v2050.toNat, 1088, 0]
def k0_off3187 (v330 : BitVec 32) : Fin 5 → Nat :=
  let c1_1091 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2054 : Index := Scalar.indexCast v347
  let c68 : Index := 68#32
  let c0_1092 : Index := 0#32
  let c0_1093 : Index := 0#32
  ![1, v2054.toNat, 68, 0, 0]
def k0_off3188 (v1 : BitVec 32) (k0_t51 : Fin (k0_t51_loop v1).trips) (v228 : BitVec 32) (v257 : BitVec 32) (k0_t63 : Fin (k0_t63_loop v228 v257).trips) : Fin 5 → Nat :=
  let c1_1096 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2071 : Index := Scalar.indexCast v226
  let c68_1097 : Index := 68#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2072 : Index := Scalar.indexCast v382
  let c0_1098 : Index := 0#32
  ![1, v2071.toNat, 68, v2072.toNat, 0]
def k0_off3189 (v330 : BitVec 32) : Fin 5 → Nat :=
  let c1_1099 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2076 : Index := Scalar.indexCast v347
  let c69 : Index := 69#32
  let c0_1100 : Index := 0#32
  let c0_1101 : Index := 0#32
  ![1, v2076.toNat, 69, 0, 0]
def k0_off3190 (v1 : BitVec 32) (k0_t51 : Fin (k0_t51_loop v1).trips) (v228 : BitVec 32) (v257 : BitVec 32) (k0_t63 : Fin (k0_t63_loop v228 v257).trips) : Fin 5 → Nat :=
  let c1_1104 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2093 : Index := Scalar.indexCast v226
  let c69_1105 : Index := 69#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2094 : Index := Scalar.indexCast v382
  let c0_1106 : Index := 0#32
  ![1, v2093.toNat, 69, v2094.toNat, 0]
def k0_off3191 (v1 : BitVec 32) (k0_t51 : Fin (k0_t51_loop v1).trips) (v228 : BitVec 32) (v257 : BitVec 32) (k0_t63 : Fin (k0_t63_loop v228 v257).trips) : Fin 5 → Nat :=
  let c1_1107 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2098 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v2099 : Index := Scalar.indexCast arg19
  let c1120 : Index := 1120#32
  let c0_1108 : Index := 0#32
  ![1, v2098.toNat, v2099.toNat, 1120, 0]
def k0_off3192 (v330 : BitVec 32) : Fin 5 → Nat :=
  let c1_1109 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2103 : Index := Scalar.indexCast v347
  let c70 : Index := 70#32
  let c0_1110 : Index := 0#32
  let c0_1111 : Index := 0#32
  ![1, v2103.toNat, 70, 0, 0]
def k0_off3193 (v1 : BitVec 32) (k0_t51 : Fin (k0_t51_loop v1).trips) (v228 : BitVec 32) (v257 : BitVec 32) (k0_t63 : Fin (k0_t63_loop v228 v257).trips) : Fin 5 → Nat :=
  let c1_1114 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2120 : Index := Scalar.indexCast v226
  let c70_1115 : Index := 70#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2121 : Index := Scalar.indexCast v382
  let c0_1116 : Index := 0#32
  ![1, v2120.toNat, 70, v2121.toNat, 0]
def k0_off3194 (v330 : BitVec 32) : Fin 5 → Nat :=
  let c1_1117 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2125 : Index := Scalar.indexCast v347
  let c71 : Index := 71#32
  let c0_1118 : Index := 0#32
  let c0_1119 : Index := 0#32
  ![1, v2125.toNat, 71, 0, 0]
def k0_off3195 (v1 : BitVec 32) (k0_t51 : Fin (k0_t51_loop v1).trips) (v228 : BitVec 32) (v257 : BitVec 32) (k0_t63 : Fin (k0_t63_loop v228 v257).trips) : Fin 5 → Nat :=
  let c1_1122 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2142 : Index := Scalar.indexCast v226
  let c71_1123 : Index := 71#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2143 : Index := Scalar.indexCast v382
  let c0_1124 : Index := 0#32
  ![1, v2142.toNat, 71, v2143.toNat, 0]
def k0_off3196 (v1 : BitVec 32) (k0_t51 : Fin (k0_t51_loop v1).trips) (v228 : BitVec 32) (v257 : BitVec 32) (k0_t63 : Fin (k0_t63_loop v228 v257).trips) : Fin 5 → Nat :=
  let c1_1125 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2147 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v2148 : Index := Scalar.indexCast arg19
  let c1152 : Index := 1152#32
  let c0_1126 : Index := 0#32
  ![1, v2147.toNat, v2148.toNat, 1152, 0]
def k0_off3197 (v330 : BitVec 32) : Fin 5 → Nat :=
  let c1_1127 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2152 : Index := Scalar.indexCast v347
  let c72 : Index := 72#32
  let c0_1128 : Index := 0#32
  let c0_1129 : Index := 0#32
  ![1, v2152.toNat, 72, 0, 0]
def k0_off3198 (v1 : BitVec 32) (k0_t51 : Fin (k0_t51_loop v1).trips) (v228 : BitVec 32) (v257 : BitVec 32) (k0_t63 : Fin (k0_t63_loop v228 v257).trips) : Fin 5 → Nat :=
  let c1_1132 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2169 : Index := Scalar.indexCast v226
  let c72_1133 : Index := 72#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2170 : Index := Scalar.indexCast v382
  let c0_1134 : Index := 0#32
  ![1, v2169.toNat, 72, v2170.toNat, 0]
def k0_off3199 (v330 : BitVec 32) : Fin 5 → Nat :=
  let c1_1135 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2174 : Index := Scalar.indexCast v347
  let c73 : Index := 73#32
  let c0_1136 : Index := 0#32
  let c0_1137 : Index := 0#32
  ![1, v2174.toNat, 73, 0, 0]
def k0_off3200 (v1 : BitVec 32) (k0_t51 : Fin (k0_t51_loop v1).trips) (v228 : BitVec 32) (v257 : BitVec 32) (k0_t63 : Fin (k0_t63_loop v228 v257).trips) : Fin 5 → Nat :=
  let c1_1140 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2191 : Index := Scalar.indexCast v226
  let c73_1141 : Index := 73#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2192 : Index := Scalar.indexCast v382
  let c0_1142 : Index := 0#32
  ![1, v2191.toNat, 73, v2192.toNat, 0]
def k0_off3201 (v1 : BitVec 32) (k0_t51 : Fin (k0_t51_loop v1).trips) (v228 : BitVec 32) (v257 : BitVec 32) (k0_t63 : Fin (k0_t63_loop v228 v257).trips) : Fin 5 → Nat :=
  let c1_1143 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2196 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v2197 : Index := Scalar.indexCast arg19
  let c1184 : Index := 1184#32
  let c0_1144 : Index := 0#32
  ![1, v2196.toNat, v2197.toNat, 1184, 0]
def k0_off3202 (v330 : BitVec 32) : Fin 5 → Nat :=
  let c1_1145 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2201 : Index := Scalar.indexCast v347
  let c74 : Index := 74#32
  let c0_1146 : Index := 0#32
  let c0_1147 : Index := 0#32
  ![1, v2201.toNat, 74, 0, 0]
def k0_off3203 (v1 : BitVec 32) (k0_t51 : Fin (k0_t51_loop v1).trips) (v228 : BitVec 32) (v257 : BitVec 32) (k0_t63 : Fin (k0_t63_loop v228 v257).trips) : Fin 5 → Nat :=
  let c1_1150 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2218 : Index := Scalar.indexCast v226
  let c74_1151 : Index := 74#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2219 : Index := Scalar.indexCast v382
  let c0_1152 : Index := 0#32
  ![1, v2218.toNat, 74, v2219.toNat, 0]
def k0_off3204 (v330 : BitVec 32) : Fin 5 → Nat :=
  let c1_1153 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2223 : Index := Scalar.indexCast v347
  let c75 : Index := 75#32
  let c0_1154 : Index := 0#32
  let c0_1155 : Index := 0#32
  ![1, v2223.toNat, 75, 0, 0]
def k0_off3205 (v1 : BitVec 32) (k0_t51 : Fin (k0_t51_loop v1).trips) (v228 : BitVec 32) (v257 : BitVec 32) (k0_t63 : Fin (k0_t63_loop v228 v257).trips) : Fin 5 → Nat :=
  let c1_1158 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2240 : Index := Scalar.indexCast v226
  let c75_1159 : Index := 75#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2241 : Index := Scalar.indexCast v382
  let c0_1160 : Index := 0#32
  ![1, v2240.toNat, 75, v2241.toNat, 0]
def k0_off3206 (v1 : BitVec 32) (k0_t51 : Fin (k0_t51_loop v1).trips) (v228 : BitVec 32) (v257 : BitVec 32) (k0_t63 : Fin (k0_t63_loop v228 v257).trips) : Fin 5 → Nat :=
  let c1_1161 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2245 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v2246 : Index := Scalar.indexCast arg19
  let c1216 : Index := 1216#32
  let c0_1162 : Index := 0#32
  ![1, v2245.toNat, v2246.toNat, 1216, 0]
def k0_off3207 (v330 : BitVec 32) : Fin 5 → Nat :=
  let c1_1163 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2250 : Index := Scalar.indexCast v347
  let c76 : Index := 76#32
  let c0_1164 : Index := 0#32
  let c0_1165 : Index := 0#32
  ![1, v2250.toNat, 76, 0, 0]
def k0_off3208 (v1 : BitVec 32) (k0_t51 : Fin (k0_t51_loop v1).trips) (v228 : BitVec 32) (v257 : BitVec 32) (k0_t63 : Fin (k0_t63_loop v228 v257).trips) : Fin 5 → Nat :=
  let c1_1168 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2267 : Index := Scalar.indexCast v226
  let c76_1169 : Index := 76#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2268 : Index := Scalar.indexCast v382
  let c0_1170 : Index := 0#32
  ![1, v2267.toNat, 76, v2268.toNat, 0]
def k0_off3209 (v330 : BitVec 32) : Fin 5 → Nat :=
  let c1_1171 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2272 : Index := Scalar.indexCast v347
  let c77 : Index := 77#32
  let c0_1172 : Index := 0#32
  let c0_1173 : Index := 0#32
  ![1, v2272.toNat, 77, 0, 0]
def k0_off3210 (v1 : BitVec 32) (k0_t51 : Fin (k0_t51_loop v1).trips) (v228 : BitVec 32) (v257 : BitVec 32) (k0_t63 : Fin (k0_t63_loop v228 v257).trips) : Fin 5 → Nat :=
  let c1_1176 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2289 : Index := Scalar.indexCast v226
  let c77_1177 : Index := 77#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2290 : Index := Scalar.indexCast v382
  let c0_1178 : Index := 0#32
  ![1, v2289.toNat, 77, v2290.toNat, 0]
def k0_off3211 (v1 : BitVec 32) (k0_t51 : Fin (k0_t51_loop v1).trips) (v228 : BitVec 32) (v257 : BitVec 32) (k0_t63 : Fin (k0_t63_loop v228 v257).trips) : Fin 5 → Nat :=
  let c1_1179 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2294 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v2295 : Index := Scalar.indexCast arg19
  let c1248 : Index := 1248#32
  let c0_1180 : Index := 0#32
  ![1, v2294.toNat, v2295.toNat, 1248, 0]
def k0_off3212 (v330 : BitVec 32) : Fin 5 → Nat :=
  let c1_1181 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2299 : Index := Scalar.indexCast v347
  let c78 : Index := 78#32
  let c0_1182 : Index := 0#32
  let c0_1183 : Index := 0#32
  ![1, v2299.toNat, 78, 0, 0]
def k0_off3213 (v1 : BitVec 32) (k0_t51 : Fin (k0_t51_loop v1).trips) (v228 : BitVec 32) (v257 : BitVec 32) (k0_t63 : Fin (k0_t63_loop v228 v257).trips) : Fin 5 → Nat :=
  let c1_1186 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2316 : Index := Scalar.indexCast v226
  let c78_1187 : Index := 78#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2317 : Index := Scalar.indexCast v382
  let c0_1188 : Index := 0#32
  ![1, v2316.toNat, 78, v2317.toNat, 0]
def k0_off3214 (v330 : BitVec 32) : Fin 5 → Nat :=
  let c1_1189 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2321 : Index := Scalar.indexCast v347
  let c79 : Index := 79#32
  let c0_1190 : Index := 0#32
  let c0_1191 : Index := 0#32
  ![1, v2321.toNat, 79, 0, 0]
def k0_off3215 (v1 : BitVec 32) (k0_t51 : Fin (k0_t51_loop v1).trips) (v228 : BitVec 32) (v257 : BitVec 32) (k0_t63 : Fin (k0_t63_loop v228 v257).trips) : Fin 5 → Nat :=
  let c1_1194 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2338 : Index := Scalar.indexCast v226
  let c79_1195 : Index := 79#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2339 : Index := Scalar.indexCast v382
  let c0_1196 : Index := 0#32
  ![1, v2338.toNat, 79, v2339.toNat, 0]
def k0_off3216 (v1 : BitVec 32) (k0_t51 : Fin (k0_t51_loop v1).trips) (v228 : BitVec 32) (v257 : BitVec 32) (k0_t63 : Fin (k0_t63_loop v228 v257).trips) : Fin 5 → Nat :=
  let c1_1197 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2343 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v2344 : Index := Scalar.indexCast arg19
  let c1280 : Index := 1280#32
  let c0_1198 : Index := 0#32
  ![1, v2343.toNat, v2344.toNat, 1280, 0]
def k0_off3217 (v330 : BitVec 32) : Fin 5 → Nat :=
  let c1_1199 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2348 : Index := Scalar.indexCast v347
  let c80 : Index := 80#32
  let c0_1200 : Index := 0#32
  let c0_1201 : Index := 0#32
  ![1, v2348.toNat, 80, 0, 0]
def k0_off3218 (v1 : BitVec 32) (k0_t51 : Fin (k0_t51_loop v1).trips) (v228 : BitVec 32) (v257 : BitVec 32) (k0_t63 : Fin (k0_t63_loop v228 v257).trips) : Fin 5 → Nat :=
  let c1_1204 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2365 : Index := Scalar.indexCast v226
  let c80_1205 : Index := 80#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2366 : Index := Scalar.indexCast v382
  let c0_1206 : Index := 0#32
  ![1, v2365.toNat, 80, v2366.toNat, 0]
def k0_off3219 (v330 : BitVec 32) : Fin 5 → Nat :=
  let c1_1207 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2370 : Index := Scalar.indexCast v347
  let c81 : Index := 81#32
  let c0_1208 : Index := 0#32
  let c0_1209 : Index := 0#32
  ![1, v2370.toNat, 81, 0, 0]
def k0_off3220 (v1 : BitVec 32) (k0_t51 : Fin (k0_t51_loop v1).trips) (v228 : BitVec 32) (v257 : BitVec 32) (k0_t63 : Fin (k0_t63_loop v228 v257).trips) : Fin 5 → Nat :=
  let c1_1212 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2387 : Index := Scalar.indexCast v226
  let c81_1213 : Index := 81#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2388 : Index := Scalar.indexCast v382
  let c0_1214 : Index := 0#32
  ![1, v2387.toNat, 81, v2388.toNat, 0]
def k0_off3221 (v1 : BitVec 32) (k0_t51 : Fin (k0_t51_loop v1).trips) (v228 : BitVec 32) (v257 : BitVec 32) (k0_t63 : Fin (k0_t63_loop v228 v257).trips) : Fin 5 → Nat :=
  let c1_1215 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2392 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v2393 : Index := Scalar.indexCast arg19
  let c1312 : Index := 1312#32
  let c0_1216 : Index := 0#32
  ![1, v2392.toNat, v2393.toNat, 1312, 0]
def k0_off3222 (v330 : BitVec 32) : Fin 5 → Nat :=
  let c1_1217 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2397 : Index := Scalar.indexCast v347
  let c82 : Index := 82#32
  let c0_1218 : Index := 0#32
  let c0_1219 : Index := 0#32
  ![1, v2397.toNat, 82, 0, 0]
def k0_off3223 (v1 : BitVec 32) (k0_t51 : Fin (k0_t51_loop v1).trips) (v228 : BitVec 32) (v257 : BitVec 32) (k0_t63 : Fin (k0_t63_loop v228 v257).trips) : Fin 5 → Nat :=
  let c1_1222 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2414 : Index := Scalar.indexCast v226
  let c82_1223 : Index := 82#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2415 : Index := Scalar.indexCast v382
  let c0_1224 : Index := 0#32
  ![1, v2414.toNat, 82, v2415.toNat, 0]
def k0_off3224 (v330 : BitVec 32) : Fin 5 → Nat :=
  let c1_1225 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2419 : Index := Scalar.indexCast v347
  let c83 : Index := 83#32
  let c0_1226 : Index := 0#32
  let c0_1227 : Index := 0#32
  ![1, v2419.toNat, 83, 0, 0]
def k0_off3225 (v1 : BitVec 32) (k0_t51 : Fin (k0_t51_loop v1).trips) (v228 : BitVec 32) (v257 : BitVec 32) (k0_t63 : Fin (k0_t63_loop v228 v257).trips) : Fin 5 → Nat :=
  let c1_1230 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2436 : Index := Scalar.indexCast v226
  let c83_1231 : Index := 83#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2437 : Index := Scalar.indexCast v382
  let c0_1232 : Index := 0#32
  ![1, v2436.toNat, 83, v2437.toNat, 0]
def k0_off3226 (v1 : BitVec 32) (k0_t51 : Fin (k0_t51_loop v1).trips) (v228 : BitVec 32) (v257 : BitVec 32) (k0_t63 : Fin (k0_t63_loop v228 v257).trips) : Fin 5 → Nat :=
  let c1_1233 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2441 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v2442 : Index := Scalar.indexCast arg19
  let c1344 : Index := 1344#32
  let c0_1234 : Index := 0#32
  ![1, v2441.toNat, v2442.toNat, 1344, 0]
def k0_off3227 (v330 : BitVec 32) : Fin 5 → Nat :=
  let c1_1235 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2446 : Index := Scalar.indexCast v347
  let c84 : Index := 84#32
  let c0_1236 : Index := 0#32
  let c0_1237 : Index := 0#32
  ![1, v2446.toNat, 84, 0, 0]
def k0_off3228 (v1 : BitVec 32) (k0_t51 : Fin (k0_t51_loop v1).trips) (v228 : BitVec 32) (v257 : BitVec 32) (k0_t63 : Fin (k0_t63_loop v228 v257).trips) : Fin 5 → Nat :=
  let c1_1240 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2463 : Index := Scalar.indexCast v226
  let c84_1241 : Index := 84#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2464 : Index := Scalar.indexCast v382
  let c0_1242 : Index := 0#32
  ![1, v2463.toNat, 84, v2464.toNat, 0]
def k0_off3229 (v330 : BitVec 32) : Fin 5 → Nat :=
  let c1_1243 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2468 : Index := Scalar.indexCast v347
  let c85 : Index := 85#32
  let c0_1244 : Index := 0#32
  let c0_1245 : Index := 0#32
  ![1, v2468.toNat, 85, 0, 0]
def k0_off3230 (v1 : BitVec 32) (k0_t51 : Fin (k0_t51_loop v1).trips) (v228 : BitVec 32) (v257 : BitVec 32) (k0_t63 : Fin (k0_t63_loop v228 v257).trips) : Fin 5 → Nat :=
  let c1_1248 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2485 : Index := Scalar.indexCast v226
  let c85_1249 : Index := 85#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2486 : Index := Scalar.indexCast v382
  let c0_1250 : Index := 0#32
  ![1, v2485.toNat, 85, v2486.toNat, 0]
def k0_off3231 (v1 : BitVec 32) (k0_t51 : Fin (k0_t51_loop v1).trips) (v228 : BitVec 32) (v257 : BitVec 32) (k0_t63 : Fin (k0_t63_loop v228 v257).trips) : Fin 5 → Nat :=
  let c1_1251 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2490 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v2491 : Index := Scalar.indexCast arg19
  let c1376 : Index := 1376#32
  let c0_1252 : Index := 0#32
  ![1, v2490.toNat, v2491.toNat, 1376, 0]
def k0_off3232 (v330 : BitVec 32) : Fin 5 → Nat :=
  let c1_1253 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2495 : Index := Scalar.indexCast v347
  let c86 : Index := 86#32
  let c0_1254 : Index := 0#32
  let c0_1255 : Index := 0#32
  ![1, v2495.toNat, 86, 0, 0]
def k0_off3233 (v1 : BitVec 32) (k0_t51 : Fin (k0_t51_loop v1).trips) (v228 : BitVec 32) (v257 : BitVec 32) (k0_t63 : Fin (k0_t63_loop v228 v257).trips) : Fin 5 → Nat :=
  let c1_1258 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2512 : Index := Scalar.indexCast v226
  let c86_1259 : Index := 86#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2513 : Index := Scalar.indexCast v382
  let c0_1260 : Index := 0#32
  ![1, v2512.toNat, 86, v2513.toNat, 0]
def k0_off3234 (v330 : BitVec 32) : Fin 5 → Nat :=
  let c1_1261 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2517 : Index := Scalar.indexCast v347
  let c87 : Index := 87#32
  let c0_1262 : Index := 0#32
  let c0_1263 : Index := 0#32
  ![1, v2517.toNat, 87, 0, 0]
def k0_off3235 (v1 : BitVec 32) (k0_t51 : Fin (k0_t51_loop v1).trips) (v228 : BitVec 32) (v257 : BitVec 32) (k0_t63 : Fin (k0_t63_loop v228 v257).trips) : Fin 5 → Nat :=
  let c1_1266 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2534 : Index := Scalar.indexCast v226
  let c87_1267 : Index := 87#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2535 : Index := Scalar.indexCast v382
  let c0_1268 : Index := 0#32
  ![1, v2534.toNat, 87, v2535.toNat, 0]
def k0_off3236 (v1 : BitVec 32) (k0_t51 : Fin (k0_t51_loop v1).trips) (v228 : BitVec 32) (v257 : BitVec 32) (k0_t63 : Fin (k0_t63_loop v228 v257).trips) : Fin 5 → Nat :=
  let c1_1269 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2539 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v2540 : Index := Scalar.indexCast arg19
  let c1408 : Index := 1408#32
  let c0_1270 : Index := 0#32
  ![1, v2539.toNat, v2540.toNat, 1408, 0]
def k0_off3237 (v330 : BitVec 32) : Fin 5 → Nat :=
  let c1_1271 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2544 : Index := Scalar.indexCast v347
  let c88 : Index := 88#32
  let c0_1272 : Index := 0#32
  let c0_1273 : Index := 0#32
  ![1, v2544.toNat, 88, 0, 0]
def k0_off3238 (v1 : BitVec 32) (k0_t51 : Fin (k0_t51_loop v1).trips) (v228 : BitVec 32) (v257 : BitVec 32) (k0_t63 : Fin (k0_t63_loop v228 v257).trips) : Fin 5 → Nat :=
  let c1_1276 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2561 : Index := Scalar.indexCast v226
  let c88_1277 : Index := 88#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2562 : Index := Scalar.indexCast v382
  let c0_1278 : Index := 0#32
  ![1, v2561.toNat, 88, v2562.toNat, 0]
def k0_off3239 (v330 : BitVec 32) : Fin 5 → Nat :=
  let c1_1279 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2566 : Index := Scalar.indexCast v347
  let c89 : Index := 89#32
  let c0_1280 : Index := 0#32
  let c0_1281 : Index := 0#32
  ![1, v2566.toNat, 89, 0, 0]
def k0_off3240 (v1 : BitVec 32) (k0_t51 : Fin (k0_t51_loop v1).trips) (v228 : BitVec 32) (v257 : BitVec 32) (k0_t63 : Fin (k0_t63_loop v228 v257).trips) : Fin 5 → Nat :=
  let c1_1284 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2583 : Index := Scalar.indexCast v226
  let c89_1285 : Index := 89#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2584 : Index := Scalar.indexCast v382
  let c0_1286 : Index := 0#32
  ![1, v2583.toNat, 89, v2584.toNat, 0]
def k0_off3241 (v1 : BitVec 32) (k0_t51 : Fin (k0_t51_loop v1).trips) (v228 : BitVec 32) (v257 : BitVec 32) (k0_t63 : Fin (k0_t63_loop v228 v257).trips) : Fin 5 → Nat :=
  let c1_1287 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2588 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v2589 : Index := Scalar.indexCast arg19
  let c1440 : Index := 1440#32
  let c0_1288 : Index := 0#32
  ![1, v2588.toNat, v2589.toNat, 1440, 0]
def k0_off3242 (v330 : BitVec 32) : Fin 5 → Nat :=
  let c1_1289 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2593 : Index := Scalar.indexCast v347
  let c90 : Index := 90#32
  let c0_1290 : Index := 0#32
  let c0_1291 : Index := 0#32
  ![1, v2593.toNat, 90, 0, 0]
def k0_off3243 (v1 : BitVec 32) (k0_t51 : Fin (k0_t51_loop v1).trips) (v228 : BitVec 32) (v257 : BitVec 32) (k0_t63 : Fin (k0_t63_loop v228 v257).trips) : Fin 5 → Nat :=
  let c1_1294 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2610 : Index := Scalar.indexCast v226
  let c90_1295 : Index := 90#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2611 : Index := Scalar.indexCast v382
  let c0_1296 : Index := 0#32
  ![1, v2610.toNat, 90, v2611.toNat, 0]
def k0_off3244 (v330 : BitVec 32) : Fin 5 → Nat :=
  let c1_1297 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2615 : Index := Scalar.indexCast v347
  let c91 : Index := 91#32
  let c0_1298 : Index := 0#32
  let c0_1299 : Index := 0#32
  ![1, v2615.toNat, 91, 0, 0]
def k0_off3245 (v1 : BitVec 32) (k0_t51 : Fin (k0_t51_loop v1).trips) (v228 : BitVec 32) (v257 : BitVec 32) (k0_t63 : Fin (k0_t63_loop v228 v257).trips) : Fin 5 → Nat :=
  let c1_1302 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2632 : Index := Scalar.indexCast v226
  let c91_1303 : Index := 91#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2633 : Index := Scalar.indexCast v382
  let c0_1304 : Index := 0#32
  ![1, v2632.toNat, 91, v2633.toNat, 0]
def k0_off3246 (v1 : BitVec 32) (k0_t51 : Fin (k0_t51_loop v1).trips) (v228 : BitVec 32) (v257 : BitVec 32) (k0_t63 : Fin (k0_t63_loop v228 v257).trips) : Fin 5 → Nat :=
  let c1_1305 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2637 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v2638 : Index := Scalar.indexCast arg19
  let c1472 : Index := 1472#32
  let c0_1306 : Index := 0#32
  ![1, v2637.toNat, v2638.toNat, 1472, 0]
def k0_off3247 (v330 : BitVec 32) : Fin 5 → Nat :=
  let c1_1307 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2642 : Index := Scalar.indexCast v347
  let c92 : Index := 92#32
  let c0_1308 : Index := 0#32
  let c0_1309 : Index := 0#32
  ![1, v2642.toNat, 92, 0, 0]
def k0_off3248 (v1 : BitVec 32) (k0_t51 : Fin (k0_t51_loop v1).trips) (v228 : BitVec 32) (v257 : BitVec 32) (k0_t63 : Fin (k0_t63_loop v228 v257).trips) : Fin 5 → Nat :=
  let c1_1312 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2659 : Index := Scalar.indexCast v226
  let c92_1313 : Index := 92#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2660 : Index := Scalar.indexCast v382
  let c0_1314 : Index := 0#32
  ![1, v2659.toNat, 92, v2660.toNat, 0]
def k0_off3249 (v330 : BitVec 32) : Fin 5 → Nat :=
  let c1_1315 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2664 : Index := Scalar.indexCast v347
  let c93 : Index := 93#32
  let c0_1316 : Index := 0#32
  let c0_1317 : Index := 0#32
  ![1, v2664.toNat, 93, 0, 0]
def k0_off3250 (v1 : BitVec 32) (k0_t51 : Fin (k0_t51_loop v1).trips) (v228 : BitVec 32) (v257 : BitVec 32) (k0_t63 : Fin (k0_t63_loop v228 v257).trips) : Fin 5 → Nat :=
  let c1_1320 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2681 : Index := Scalar.indexCast v226
  let c93_1321 : Index := 93#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2682 : Index := Scalar.indexCast v382
  let c0_1322 : Index := 0#32
  ![1, v2681.toNat, 93, v2682.toNat, 0]
def k0_off3251 (v1 : BitVec 32) (k0_t51 : Fin (k0_t51_loop v1).trips) (v228 : BitVec 32) (v257 : BitVec 32) (k0_t63 : Fin (k0_t63_loop v228 v257).trips) : Fin 5 → Nat :=
  let c1_1323 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2686 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v2687 : Index := Scalar.indexCast arg19
  let c1504 : Index := 1504#32
  let c0_1324 : Index := 0#32
  ![1, v2686.toNat, v2687.toNat, 1504, 0]
def k0_off3252 (v330 : BitVec 32) : Fin 5 → Nat :=
  let c1_1325 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2691 : Index := Scalar.indexCast v347
  let c94 : Index := 94#32
  let c0_1326 : Index := 0#32
  let c0_1327 : Index := 0#32
  ![1, v2691.toNat, 94, 0, 0]
def k0_off3253 (v1 : BitVec 32) (k0_t51 : Fin (k0_t51_loop v1).trips) (v228 : BitVec 32) (v257 : BitVec 32) (k0_t63 : Fin (k0_t63_loop v228 v257).trips) : Fin 5 → Nat :=
  let c1_1330 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2708 : Index := Scalar.indexCast v226
  let c94_1331 : Index := 94#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2709 : Index := Scalar.indexCast v382
  let c0_1332 : Index := 0#32
  ![1, v2708.toNat, 94, v2709.toNat, 0]
def k0_off3254 (v330 : BitVec 32) : Fin 5 → Nat :=
  let c1_1333 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2713 : Index := Scalar.indexCast v347
  let c95 : Index := 95#32
  let c0_1334 : Index := 0#32
  let c0_1335 : Index := 0#32
  ![1, v2713.toNat, 95, 0, 0]
def k0_off3255 (v1 : BitVec 32) (k0_t51 : Fin (k0_t51_loop v1).trips) (v228 : BitVec 32) (v257 : BitVec 32) (k0_t63 : Fin (k0_t63_loop v228 v257).trips) : Fin 5 → Nat :=
  let c1_1338 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2730 : Index := Scalar.indexCast v226
  let c95_1339 : Index := 95#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2731 : Index := Scalar.indexCast v382
  let c0_1340 : Index := 0#32
  ![1, v2730.toNat, 95, v2731.toNat, 0]
def k0_off3256 (v1 : BitVec 32) (k0_t51 : Fin (k0_t51_loop v1).trips) (v228 : BitVec 32) (v257 : BitVec 32) (k0_t63 : Fin (k0_t63_loop v228 v257).trips) : Fin 5 → Nat :=
  let c1_1341 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2735 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v2736 : Index := Scalar.indexCast arg19
  let c1536 : Index := 1536#32
  let c0_1342 : Index := 0#32
  ![1, v2735.toNat, v2736.toNat, 1536, 0]
def k0_off3257 (v330 : BitVec 32) : Fin 5 → Nat :=
  let c1_1343 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2740 : Index := Scalar.indexCast v347
  let c96_1344 : Index := 96#32
  let c0_1345 : Index := 0#32
  let c0_1346 : Index := 0#32
  ![1, v2740.toNat, 96, 0, 0]
def k0_off3258 (v1 : BitVec 32) (k0_t51 : Fin (k0_t51_loop v1).trips) (v228 : BitVec 32) (v257 : BitVec 32) (k0_t63 : Fin (k0_t63_loop v228 v257).trips) : Fin 5 → Nat :=
  let c1_1349 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2757 : Index := Scalar.indexCast v226
  let c96_1350 : Index := 96#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2758 : Index := Scalar.indexCast v382
  let c0_1351 : Index := 0#32
  ![1, v2757.toNat, 96, v2758.toNat, 0]
def k0_off3259 (v330 : BitVec 32) : Fin 5 → Nat :=
  let c1_1352 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2762 : Index := Scalar.indexCast v347
  let c97 : Index := 97#32
  let c0_1353 : Index := 0#32
  let c0_1354 : Index := 0#32
  ![1, v2762.toNat, 97, 0, 0]
def k0_off3260 (v1 : BitVec 32) (k0_t51 : Fin (k0_t51_loop v1).trips) (v228 : BitVec 32) (v257 : BitVec 32) (k0_t63 : Fin (k0_t63_loop v228 v257).trips) : Fin 5 → Nat :=
  let c1_1357 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2779 : Index := Scalar.indexCast v226
  let c97_1358 : Index := 97#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2780 : Index := Scalar.indexCast v382
  let c0_1359 : Index := 0#32
  ![1, v2779.toNat, 97, v2780.toNat, 0]
def k0_off3261 (v1 : BitVec 32) (k0_t51 : Fin (k0_t51_loop v1).trips) (v228 : BitVec 32) (v257 : BitVec 32) (k0_t63 : Fin (k0_t63_loop v228 v257).trips) : Fin 5 → Nat :=
  let c1_1360 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2784 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v2785 : Index := Scalar.indexCast arg19
  let c1568 : Index := 1568#32
  let c0_1361 : Index := 0#32
  ![1, v2784.toNat, v2785.toNat, 1568, 0]
def k0_off3262 (v330 : BitVec 32) : Fin 5 → Nat :=
  let c1_1362 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2789 : Index := Scalar.indexCast v347
  let c98 : Index := 98#32
  let c0_1363 : Index := 0#32
  let c0_1364 : Index := 0#32
  ![1, v2789.toNat, 98, 0, 0]
def k0_off3263 (v1 : BitVec 32) (k0_t51 : Fin (k0_t51_loop v1).trips) (v228 : BitVec 32) (v257 : BitVec 32) (k0_t63 : Fin (k0_t63_loop v228 v257).trips) : Fin 5 → Nat :=
  let c1_1367 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2806 : Index := Scalar.indexCast v226
  let c98_1368 : Index := 98#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2807 : Index := Scalar.indexCast v382
  let c0_1369 : Index := 0#32
  ![1, v2806.toNat, 98, v2807.toNat, 0]
def k0_off3264 (v330 : BitVec 32) : Fin 5 → Nat :=
  let c1_1370 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2811 : Index := Scalar.indexCast v347
  let c99 : Index := 99#32
  let c0_1371 : Index := 0#32
  let c0_1372 : Index := 0#32
  ![1, v2811.toNat, 99, 0, 0]
def k0_off3265 (v1 : BitVec 32) (k0_t51 : Fin (k0_t51_loop v1).trips) (v228 : BitVec 32) (v257 : BitVec 32) (k0_t63 : Fin (k0_t63_loop v228 v257).trips) : Fin 5 → Nat :=
  let c1_1375 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2828 : Index := Scalar.indexCast v226
  let c99_1376 : Index := 99#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2829 : Index := Scalar.indexCast v382
  let c0_1377 : Index := 0#32
  ![1, v2828.toNat, 99, v2829.toNat, 0]
def k0_off3266 (v1 : BitVec 32) (k0_t51 : Fin (k0_t51_loop v1).trips) (v228 : BitVec 32) (v257 : BitVec 32) (k0_t63 : Fin (k0_t63_loop v228 v257).trips) : Fin 5 → Nat :=
  let c1_1378 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2833 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v2834 : Index := Scalar.indexCast arg19
  let c1600 : Index := 1600#32
  let c0_1379 : Index := 0#32
  ![1, v2833.toNat, v2834.toNat, 1600, 0]
def k0_off3267 (v330 : BitVec 32) : Fin 5 → Nat :=
  let c1_1380 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2838 : Index := Scalar.indexCast v347
  let c100 : Index := 100#32
  let c0_1381 : Index := 0#32
  let c0_1382 : Index := 0#32
  ![1, v2838.toNat, 100, 0, 0]
def k0_off3268 (v1 : BitVec 32) (k0_t51 : Fin (k0_t51_loop v1).trips) (v228 : BitVec 32) (v257 : BitVec 32) (k0_t63 : Fin (k0_t63_loop v228 v257).trips) : Fin 5 → Nat :=
  let c1_1385 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2855 : Index := Scalar.indexCast v226
  let c100_1386 : Index := 100#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2856 : Index := Scalar.indexCast v382
  let c0_1387 : Index := 0#32
  ![1, v2855.toNat, 100, v2856.toNat, 0]
def k0_off3269 (v330 : BitVec 32) : Fin 5 → Nat :=
  let c1_1388 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2860 : Index := Scalar.indexCast v347
  let c101 : Index := 101#32
  let c0_1389 : Index := 0#32
  let c0_1390 : Index := 0#32
  ![1, v2860.toNat, 101, 0, 0]
def k0_off3270 (v1 : BitVec 32) (k0_t51 : Fin (k0_t51_loop v1).trips) (v228 : BitVec 32) (v257 : BitVec 32) (k0_t63 : Fin (k0_t63_loop v228 v257).trips) : Fin 5 → Nat :=
  let c1_1393 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2877 : Index := Scalar.indexCast v226
  let c101_1394 : Index := 101#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2878 : Index := Scalar.indexCast v382
  let c0_1395 : Index := 0#32
  ![1, v2877.toNat, 101, v2878.toNat, 0]
def k0_off3271 (v1 : BitVec 32) (k0_t51 : Fin (k0_t51_loop v1).trips) (v228 : BitVec 32) (v257 : BitVec 32) (k0_t63 : Fin (k0_t63_loop v228 v257).trips) : Fin 5 → Nat :=
  let c1_1396 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2882 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v2883 : Index := Scalar.indexCast arg19
  let c1632 : Index := 1632#32
  let c0_1397 : Index := 0#32
  ![1, v2882.toNat, v2883.toNat, 1632, 0]
def k0_off3272 (v330 : BitVec 32) : Fin 5 → Nat :=
  let c1_1398 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2887 : Index := Scalar.indexCast v347
  let c102 : Index := 102#32
  let c0_1399 : Index := 0#32
  let c0_1400 : Index := 0#32
  ![1, v2887.toNat, 102, 0, 0]
def k0_off3273 (v1 : BitVec 32) (k0_t51 : Fin (k0_t51_loop v1).trips) (v228 : BitVec 32) (v257 : BitVec 32) (k0_t63 : Fin (k0_t63_loop v228 v257).trips) : Fin 5 → Nat :=
  let c1_1403 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2904 : Index := Scalar.indexCast v226
  let c102_1404 : Index := 102#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2905 : Index := Scalar.indexCast v382
  let c0_1405 : Index := 0#32
  ![1, v2904.toNat, 102, v2905.toNat, 0]
def k0_off3274 (v330 : BitVec 32) : Fin 5 → Nat :=
  let c1_1406 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2909 : Index := Scalar.indexCast v347
  let c103 : Index := 103#32
  let c0_1407 : Index := 0#32
  let c0_1408 : Index := 0#32
  ![1, v2909.toNat, 103, 0, 0]
def k0_off3275 (v1 : BitVec 32) (k0_t51 : Fin (k0_t51_loop v1).trips) (v228 : BitVec 32) (v257 : BitVec 32) (k0_t63 : Fin (k0_t63_loop v228 v257).trips) : Fin 5 → Nat :=
  let c1_1411 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2926 : Index := Scalar.indexCast v226
  let c103_1412 : Index := 103#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2927 : Index := Scalar.indexCast v382
  let c0_1413 : Index := 0#32
  ![1, v2926.toNat, 103, v2927.toNat, 0]
def k0_off3276 (v1 : BitVec 32) (k0_t51 : Fin (k0_t51_loop v1).trips) (v228 : BitVec 32) (v257 : BitVec 32) (k0_t63 : Fin (k0_t63_loop v228 v257).trips) : Fin 5 → Nat :=
  let c1_1414 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2931 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v2932 : Index := Scalar.indexCast arg19
  let c1664 : Index := 1664#32
  let c0_1415 : Index := 0#32
  ![1, v2931.toNat, v2932.toNat, 1664, 0]
def k0_off3277 (v330 : BitVec 32) : Fin 5 → Nat :=
  let c1_1416 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2936 : Index := Scalar.indexCast v347
  let c104 : Index := 104#32
  let c0_1417 : Index := 0#32
  let c0_1418 : Index := 0#32
  ![1, v2936.toNat, 104, 0, 0]
def k0_off3278 (v1 : BitVec 32) (k0_t51 : Fin (k0_t51_loop v1).trips) (v228 : BitVec 32) (v257 : BitVec 32) (k0_t63 : Fin (k0_t63_loop v228 v257).trips) : Fin 5 → Nat :=
  let c1_1421 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2953 : Index := Scalar.indexCast v226
  let c104_1422 : Index := 104#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2954 : Index := Scalar.indexCast v382
  let c0_1423 : Index := 0#32
  ![1, v2953.toNat, 104, v2954.toNat, 0]
def k0_off3279 (v330 : BitVec 32) : Fin 5 → Nat :=
  let c1_1424 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2958 : Index := Scalar.indexCast v347
  let c105 : Index := 105#32
  let c0_1425 : Index := 0#32
  let c0_1426 : Index := 0#32
  ![1, v2958.toNat, 105, 0, 0]
def k0_off3280 (v1 : BitVec 32) (k0_t51 : Fin (k0_t51_loop v1).trips) (v228 : BitVec 32) (v257 : BitVec 32) (k0_t63 : Fin (k0_t63_loop v228 v257).trips) : Fin 5 → Nat :=
  let c1_1429 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2975 : Index := Scalar.indexCast v226
  let c105_1430 : Index := 105#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v2976 : Index := Scalar.indexCast v382
  let c0_1431 : Index := 0#32
  ![1, v2975.toNat, 105, v2976.toNat, 0]
def k0_off3281 (v1 : BitVec 32) (k0_t51 : Fin (k0_t51_loop v1).trips) (v228 : BitVec 32) (v257 : BitVec 32) (k0_t63 : Fin (k0_t63_loop v228 v257).trips) : Fin 5 → Nat :=
  let c1_1432 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v2980 : Index := Scalar.indexCast v226
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let v2981 : Index := Scalar.indexCast arg19
  let c1696 : Index := 1696#32
  let c0_1433 : Index := 0#32
  ![1, v2980.toNat, v2981.toNat, 1696, 0]
def k0_off3282 (v330 : BitVec 32) : Fin 5 → Nat :=
  let c1_1434 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v2985 : Index := Scalar.indexCast v347
  let c106 : Index := 106#32
  let c0_1435 : Index := 0#32
  let c0_1436 : Index := 0#32
  ![1, v2985.toNat, 106, 0, 0]
def k0_off3283 (v1 : BitVec 32) (k0_t51 : Fin (k0_t51_loop v1).trips) (v228 : BitVec 32) (v257 : BitVec 32) (k0_t63 : Fin (k0_t63_loop v228 v257).trips) : Fin 5 → Nat :=
  let c1_1439 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v3002 : Index := Scalar.indexCast v226
  let c106_1440 : Index := 106#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v3003 : Index := Scalar.indexCast v382
  let c0_1441 : Index := 0#32
  ![1, v3002.toNat, 106, v3003.toNat, 0]
def k0_off3284 (v330 : BitVec 32) : Fin 5 → Nat :=
  let c1_1442 : Index := 1#32
  let c0_i32_454 : BitVec 32 := 0#32
  let v332 : BitVec 1 := Scalar.cmpi .sgt v330 c0_i32_454
  let v333 : BitVec 32 := Scalar.extui v332
  let c0_i32_455 : BitVec 32 := 0#32
  let v334 : BitVec 1 := Scalar.cmpi .slt v330 c0_i32_455
  let v335 : BitVec 32 := Scalar.extui v334
  let v336 : BitVec 32 := Scalar.subi v333 v335
  let c128_i32_453 : BitVec 32 := 128#32
  let c0_i32_456 : BitVec 32 := 0#32
  let v337 : BitVec 1 := Scalar.cmpi .sgt c128_i32_453 c0_i32_456
  let v338 : BitVec 32 := Scalar.extui v337
  let c0_i32_457 : BitVec 32 := 0#32
  let v339 : BitVec 1 := Scalar.cmpi .slt c128_i32_453 c0_i32_457
  let v340 : BitVec 32 := Scalar.extui v339
  let v341 : BitVec 32 := Scalar.subi v338 v340
  let v342 : BitVec 1 := Scalar.cmpi .ne v336 v341
  let v343 : BitVec 32 := Scalar.remsi v330 c128_i32_453
  let c0_i32_458 : BitVec 32 := 0#32
  let v344 : BitVec 1 := Scalar.cmpi .ne v343 c0_i32_458
  let v345 : BitVec 1 := Scalar.andi v342 v344
  let v331 : BitVec 32 := Scalar.divsi v330 c128_i32_453
  let c1_i32_459 : BitVec 32 := 1#32
  let v346 : BitVec 32 := Scalar.subi v331 c1_i32_459
  let v347 : BitVec 32 := Scalar.select v345 v346 v331
  let v3007 : Index := Scalar.indexCast v347
  let c107 : Index := 107#32
  let c0_1443 : Index := 0#32
  let c0_1444 : Index := 0#32
  ![1, v3007.toNat, 107, 0, 0]

def k0_chk43_0 (v330 : BitVec 32) : Prop :=
  (∀ a, (k0_off3017 v330) a + S1x1x1x8x128.size a ≤ S2x10x108x8x128.size a) ∧
  (∀ a, (k0_off3019 v330) a + S1x1x1x8x128.size a ≤ S2x10x108x8x128.size a) ∧
  (∀ a, (k0_off3022 v330) a + S1x1x1x8x128.size a ≤ S2x10x108x8x128.size a) ∧
  (∀ a, (k0_off3024 v330) a + S1x1x1x8x128.size a ≤ S2x10x108x8x128.size a) ∧
  (∀ a, (k0_off3027 v330) a + S1x1x1x8x128.size a ≤ S2x10x108x8x128.size a) ∧
  (∀ a, (k0_off3029 v330) a + S1x1x1x8x128.size a ≤ S2x10x108x8x128.size a) ∧
  (∀ a, (k0_off3032 v330) a + S1x1x1x8x128.size a ≤ S2x10x108x8x128.size a) ∧
  (∀ a, (k0_off3034 v330) a + S1x1x1x8x128.size a ≤ S2x10x108x8x128.size a) ∧
  (∀ a, (k0_off3037 v330) a + S1x1x1x8x128.size a ≤ S2x10x108x8x128.size a) ∧
  (∀ a, (k0_off3039 v330) a + S1x1x1x8x128.size a ≤ S2x10x108x8x128.size a) ∧
  (∀ a, (k0_off3042 v330) a + S1x1x1x8x128.size a ≤ S2x10x108x8x128.size a) ∧
  (∀ a, (k0_off3044 v330) a + S1x1x1x8x128.size a ≤ S2x10x108x8x128.size a) ∧
  (∀ a, (k0_off3047 v330) a + S1x1x1x8x128.size a ≤ S2x10x108x8x128.size a) ∧
  (∀ a, (k0_off3049 v330) a + S1x1x1x8x128.size a ≤ S2x10x108x8x128.size a) ∧
  (∀ a, (k0_off3052 v330) a + S1x1x1x8x128.size a ≤ S2x10x108x8x128.size a) ∧
  (∀ a, (k0_off3054 v330) a + S1x1x1x8x128.size a ≤ S2x10x108x8x128.size a) ∧
  (∀ a, (k0_off3057 v330) a + S1x1x1x8x128.size a ≤ S2x10x108x8x128.size a) ∧
  (∀ a, (k0_off3059 v330) a + S1x1x1x8x128.size a ≤ S2x10x108x8x128.size a) ∧
  (∀ a, (k0_off3062 v330) a + S1x1x1x8x128.size a ≤ S2x10x108x8x128.size a) ∧
  (∀ a, (k0_off3064 v330) a + S1x1x1x8x128.size a ≤ S2x10x108x8x128.size a) ∧
  (∀ a, (k0_off3067 v330) a + S1x1x1x8x128.size a ≤ S2x10x108x8x128.size a) ∧
  (∀ a, (k0_off3069 v330) a + S1x1x1x8x128.size a ≤ S2x10x108x8x128.size a) ∧
  (∀ a, (k0_off3072 v330) a + S1x1x1x8x128.size a ≤ S2x10x108x8x128.size a) ∧
  (∀ a, (k0_off3074 v330) a + S1x1x1x8x128.size a ≤ S2x10x108x8x128.size a) ∧
  (∀ a, (k0_off3077 v330) a + S1x1x1x8x128.size a ≤ S2x10x108x8x128.size a) ∧
  (∀ a, (k0_off3079 v330) a + S1x1x1x8x128.size a ≤ S2x10x108x8x128.size a) ∧
  (∀ a, (k0_off3082 v330) a + S1x1x1x8x128.size a ≤ S2x10x108x8x128.size a) ∧
  (∀ a, (k0_off3084 v330) a + S1x1x1x8x128.size a ≤ S2x10x108x8x128.size a) ∧
  (∀ a, (k0_off3087 v330) a + S1x1x1x8x128.size a ≤ S2x10x108x8x128.size a) ∧
  (∀ a, (k0_off3089 v330) a + S1x1x1x8x128.size a ≤ S2x10x108x8x128.size a) ∧
  (∀ a, (k0_off3092 v330) a + S1x1x1x8x128.size a ≤ S2x10x108x8x128.size a) ∧
  (∀ a, (k0_off3094 v330) a + S1x1x1x8x128.size a ≤ S2x10x108x8x128.size a)
def k0_chk43_1 (v330 : BitVec 32) : Prop :=
  (∀ a, (k0_off3097 v330) a + S1x1x1x8x128.size a ≤ S2x10x108x8x128.size a) ∧
  (∀ a, (k0_off3099 v330) a + S1x1x1x8x128.size a ≤ S2x10x108x8x128.size a) ∧
  (∀ a, (k0_off3102 v330) a + S1x1x1x8x128.size a ≤ S2x10x108x8x128.size a) ∧
  (∀ a, (k0_off3104 v330) a + S1x1x1x8x128.size a ≤ S2x10x108x8x128.size a) ∧
  (∀ a, (k0_off3107 v330) a + S1x1x1x8x128.size a ≤ S2x10x108x8x128.size a) ∧
  (∀ a, (k0_off3109 v330) a + S1x1x1x8x128.size a ≤ S2x10x108x8x128.size a) ∧
  (∀ a, (k0_off3112 v330) a + S1x1x1x8x128.size a ≤ S2x10x108x8x128.size a) ∧
  (∀ a, (k0_off3114 v330) a + S1x1x1x8x128.size a ≤ S2x10x108x8x128.size a) ∧
  (∀ a, (k0_off3117 v330) a + S1x1x1x8x128.size a ≤ S2x10x108x8x128.size a) ∧
  (∀ a, (k0_off3119 v330) a + S1x1x1x8x128.size a ≤ S2x10x108x8x128.size a) ∧
  (∀ a, (k0_off3122 v330) a + S1x1x1x8x128.size a ≤ S2x10x108x8x128.size a) ∧
  (∀ a, (k0_off3124 v330) a + S1x1x1x8x128.size a ≤ S2x10x108x8x128.size a) ∧
  (∀ a, (k0_off3127 v330) a + S1x1x1x8x128.size a ≤ S2x10x108x8x128.size a) ∧
  (∀ a, (k0_off3129 v330) a + S1x1x1x8x128.size a ≤ S2x10x108x8x128.size a) ∧
  (∀ a, (k0_off3132 v330) a + S1x1x1x8x128.size a ≤ S2x10x108x8x128.size a) ∧
  (∀ a, (k0_off3134 v330) a + S1x1x1x8x128.size a ≤ S2x10x108x8x128.size a) ∧
  (∀ a, (k0_off3137 v330) a + S1x1x1x8x128.size a ≤ S2x10x108x8x128.size a) ∧
  (∀ a, (k0_off3139 v330) a + S1x1x1x8x128.size a ≤ S2x10x108x8x128.size a) ∧
  (∀ a, (k0_off3142 v330) a + S1x1x1x8x128.size a ≤ S2x10x108x8x128.size a) ∧
  (∀ a, (k0_off3144 v330) a + S1x1x1x8x128.size a ≤ S2x10x108x8x128.size a) ∧
  (∀ a, (k0_off3147 v330) a + S1x1x1x8x128.size a ≤ S2x10x108x8x128.size a) ∧
  (∀ a, (k0_off3149 v330) a + S1x1x1x8x128.size a ≤ S2x10x108x8x128.size a) ∧
  (∀ a, (k0_off3152 v330) a + S1x1x1x8x128.size a ≤ S2x10x108x8x128.size a) ∧
  (∀ a, (k0_off3154 v330) a + S1x1x1x8x128.size a ≤ S2x10x108x8x128.size a) ∧
  (∀ a, (k0_off3157 v330) a + S1x1x1x8x128.size a ≤ S2x10x108x8x128.size a) ∧
  (∀ a, (k0_off3159 v330) a + S1x1x1x8x128.size a ≤ S2x10x108x8x128.size a) ∧
  (∀ a, (k0_off3162 v330) a + S1x1x1x8x128.size a ≤ S2x10x108x8x128.size a) ∧
  (∀ a, (k0_off3164 v330) a + S1x1x1x8x128.size a ≤ S2x10x108x8x128.size a) ∧
  (∀ a, (k0_off3167 v330) a + S1x1x1x8x128.size a ≤ S2x10x108x8x128.size a) ∧
  (∀ a, (k0_off3169 v330) a + S1x1x1x8x128.size a ≤ S2x10x108x8x128.size a) ∧
  (∀ a, (k0_off3172 v330) a + S1x1x1x8x128.size a ≤ S2x10x108x8x128.size a) ∧
  (∀ a, (k0_off3174 v330) a + S1x1x1x8x128.size a ≤ S2x10x108x8x128.size a)
def k0_chk43_2 (v330 : BitVec 32) : Prop :=
  (∀ a, (k0_off3177 v330) a + S1x1x1x8x128.size a ≤ S2x10x108x8x128.size a) ∧
  (∀ a, (k0_off3179 v330) a + S1x1x1x8x128.size a ≤ S2x10x108x8x128.size a) ∧
  (∀ a, (k0_off3182 v330) a + S1x1x1x8x128.size a ≤ S2x10x108x8x128.size a) ∧
  (∀ a, (k0_off3184 v330) a + S1x1x1x8x128.size a ≤ S2x10x108x8x128.size a) ∧
  (∀ a, (k0_off3187 v330) a + S1x1x1x8x128.size a ≤ S2x10x108x8x128.size a) ∧
  (∀ a, (k0_off3189 v330) a + S1x1x1x8x128.size a ≤ S2x10x108x8x128.size a) ∧
  (∀ a, (k0_off3192 v330) a + S1x1x1x8x128.size a ≤ S2x10x108x8x128.size a) ∧
  (∀ a, (k0_off3194 v330) a + S1x1x1x8x128.size a ≤ S2x10x108x8x128.size a) ∧
  (∀ a, (k0_off3197 v330) a + S1x1x1x8x128.size a ≤ S2x10x108x8x128.size a) ∧
  (∀ a, (k0_off3199 v330) a + S1x1x1x8x128.size a ≤ S2x10x108x8x128.size a) ∧
  (∀ a, (k0_off3202 v330) a + S1x1x1x8x128.size a ≤ S2x10x108x8x128.size a) ∧
  (∀ a, (k0_off3204 v330) a + S1x1x1x8x128.size a ≤ S2x10x108x8x128.size a) ∧
  (∀ a, (k0_off3207 v330) a + S1x1x1x8x128.size a ≤ S2x10x108x8x128.size a) ∧
  (∀ a, (k0_off3209 v330) a + S1x1x1x8x128.size a ≤ S2x10x108x8x128.size a) ∧
  (∀ a, (k0_off3212 v330) a + S1x1x1x8x128.size a ≤ S2x10x108x8x128.size a) ∧
  (∀ a, (k0_off3214 v330) a + S1x1x1x8x128.size a ≤ S2x10x108x8x128.size a) ∧
  (∀ a, (k0_off3217 v330) a + S1x1x1x8x128.size a ≤ S2x10x108x8x128.size a) ∧
  (∀ a, (k0_off3219 v330) a + S1x1x1x8x128.size a ≤ S2x10x108x8x128.size a) ∧
  (∀ a, (k0_off3222 v330) a + S1x1x1x8x128.size a ≤ S2x10x108x8x128.size a) ∧
  (∀ a, (k0_off3224 v330) a + S1x1x1x8x128.size a ≤ S2x10x108x8x128.size a) ∧
  (∀ a, (k0_off3227 v330) a + S1x1x1x8x128.size a ≤ S2x10x108x8x128.size a) ∧
  (∀ a, (k0_off3229 v330) a + S1x1x1x8x128.size a ≤ S2x10x108x8x128.size a) ∧
  (∀ a, (k0_off3232 v330) a + S1x1x1x8x128.size a ≤ S2x10x108x8x128.size a) ∧
  (∀ a, (k0_off3234 v330) a + S1x1x1x8x128.size a ≤ S2x10x108x8x128.size a) ∧
  (∀ a, (k0_off3237 v330) a + S1x1x1x8x128.size a ≤ S2x10x108x8x128.size a) ∧
  (∀ a, (k0_off3239 v330) a + S1x1x1x8x128.size a ≤ S2x10x108x8x128.size a) ∧
  (∀ a, (k0_off3242 v330) a + S1x1x1x8x128.size a ≤ S2x10x108x8x128.size a) ∧
  (∀ a, (k0_off3244 v330) a + S1x1x1x8x128.size a ≤ S2x10x108x8x128.size a) ∧
  (∀ a, (k0_off3247 v330) a + S1x1x1x8x128.size a ≤ S2x10x108x8x128.size a) ∧
  (∀ a, (k0_off3249 v330) a + S1x1x1x8x128.size a ≤ S2x10x108x8x128.size a) ∧
  (∀ a, (k0_off3252 v330) a + S1x1x1x8x128.size a ≤ S2x10x108x8x128.size a) ∧
  (∀ a, (k0_off3254 v330) a + S1x1x1x8x128.size a ≤ S2x10x108x8x128.size a)
def k0_chk43_3 (v330 : BitVec 32) : Prop :=
  (∀ a, (k0_off3257 v330) a + S1x1x1x8x128.size a ≤ S2x10x108x8x128.size a) ∧
  (∀ a, (k0_off3259 v330) a + S1x1x1x8x128.size a ≤ S2x10x108x8x128.size a) ∧
  (∀ a, (k0_off3262 v330) a + S1x1x1x8x128.size a ≤ S2x10x108x8x128.size a) ∧
  (∀ a, (k0_off3264 v330) a + S1x1x1x8x128.size a ≤ S2x10x108x8x128.size a) ∧
  (∀ a, (k0_off3267 v330) a + S1x1x1x8x128.size a ≤ S2x10x108x8x128.size a) ∧
  (∀ a, (k0_off3269 v330) a + S1x1x1x8x128.size a ≤ S2x10x108x8x128.size a) ∧
  (∀ a, (k0_off3272 v330) a + S1x1x1x8x128.size a ≤ S2x10x108x8x128.size a) ∧
  (∀ a, (k0_off3274 v330) a + S1x1x1x8x128.size a ≤ S2x10x108x8x128.size a) ∧
  (∀ a, (k0_off3277 v330) a + S1x1x1x8x128.size a ≤ S2x10x108x8x128.size a) ∧
  (∀ a, (k0_off3279 v330) a + S1x1x1x8x128.size a ≤ S2x10x108x8x128.size a) ∧
  (∀ a, (k0_off3282 v330) a + S1x1x1x8x128.size a ≤ S2x10x108x8x128.size a) ∧
  (∀ a, (k0_off3284 v330) a + S1x1x1x8x128.size a ≤ S2x10x108x8x128.size a)
def k0_chk43 (v330 : BitVec 32) : Prop :=
  k0_chk43_0 v330 ∧
  k0_chk43_1 v330 ∧
  k0_chk43_2 v330 ∧
  k0_chk43_3 v330
theorem k0_off3017_inb : ∀ (v330 : BitVec 32) (k0_hw43 : k0_chk43 v330), ∀ a, (k0_off3017 v330) a + S1x1x1x8x128.size a ≤ S2x10x108x8x128.size a := fun v330 k0_hw43 => k0_hw43.1.1
theorem k0_off3019_inb : ∀ (v330 : BitVec 32) (k0_hw43 : k0_chk43 v330), ∀ a, (k0_off3019 v330) a + S1x1x1x8x128.size a ≤ S2x10x108x8x128.size a := fun v330 k0_hw43 => k0_hw43.1.2.1
theorem k0_off3022_inb : ∀ (v330 : BitVec 32) (k0_hw43 : k0_chk43 v330), ∀ a, (k0_off3022 v330) a + S1x1x1x8x128.size a ≤ S2x10x108x8x128.size a := fun v330 k0_hw43 => k0_hw43.1.2.2.1
theorem k0_off3024_inb : ∀ (v330 : BitVec 32) (k0_hw43 : k0_chk43 v330), ∀ a, (k0_off3024 v330) a + S1x1x1x8x128.size a ≤ S2x10x108x8x128.size a := fun v330 k0_hw43 => k0_hw43.1.2.2.2.1
theorem k0_off3027_inb : ∀ (v330 : BitVec 32) (k0_hw43 : k0_chk43 v330), ∀ a, (k0_off3027 v330) a + S1x1x1x8x128.size a ≤ S2x10x108x8x128.size a := fun v330 k0_hw43 => k0_hw43.1.2.2.2.2.1
theorem k0_off3029_inb : ∀ (v330 : BitVec 32) (k0_hw43 : k0_chk43 v330), ∀ a, (k0_off3029 v330) a + S1x1x1x8x128.size a ≤ S2x10x108x8x128.size a := fun v330 k0_hw43 => k0_hw43.1.2.2.2.2.2.1
theorem k0_off3032_inb : ∀ (v330 : BitVec 32) (k0_hw43 : k0_chk43 v330), ∀ a, (k0_off3032 v330) a + S1x1x1x8x128.size a ≤ S2x10x108x8x128.size a := fun v330 k0_hw43 => k0_hw43.1.2.2.2.2.2.2.1
theorem k0_off3034_inb : ∀ (v330 : BitVec 32) (k0_hw43 : k0_chk43 v330), ∀ a, (k0_off3034 v330) a + S1x1x1x8x128.size a ≤ S2x10x108x8x128.size a := fun v330 k0_hw43 => k0_hw43.1.2.2.2.2.2.2.2.1
theorem k0_off3037_inb : ∀ (v330 : BitVec 32) (k0_hw43 : k0_chk43 v330), ∀ a, (k0_off3037 v330) a + S1x1x1x8x128.size a ≤ S2x10x108x8x128.size a := fun v330 k0_hw43 => k0_hw43.1.2.2.2.2.2.2.2.2.1
theorem k0_off3039_inb : ∀ (v330 : BitVec 32) (k0_hw43 : k0_chk43 v330), ∀ a, (k0_off3039 v330) a + S1x1x1x8x128.size a ≤ S2x10x108x8x128.size a := fun v330 k0_hw43 => k0_hw43.1.2.2.2.2.2.2.2.2.2.1
theorem k0_off3042_inb : ∀ (v330 : BitVec 32) (k0_hw43 : k0_chk43 v330), ∀ a, (k0_off3042 v330) a + S1x1x1x8x128.size a ≤ S2x10x108x8x128.size a := fun v330 k0_hw43 => k0_hw43.1.2.2.2.2.2.2.2.2.2.2.1
theorem k0_off3044_inb : ∀ (v330 : BitVec 32) (k0_hw43 : k0_chk43 v330), ∀ a, (k0_off3044 v330) a + S1x1x1x8x128.size a ≤ S2x10x108x8x128.size a := fun v330 k0_hw43 => k0_hw43.1.2.2.2.2.2.2.2.2.2.2.2.1
theorem k0_off3047_inb : ∀ (v330 : BitVec 32) (k0_hw43 : k0_chk43 v330), ∀ a, (k0_off3047 v330) a + S1x1x1x8x128.size a ≤ S2x10x108x8x128.size a := fun v330 k0_hw43 => k0_hw43.1.2.2.2.2.2.2.2.2.2.2.2.2.1
theorem k0_off3049_inb : ∀ (v330 : BitVec 32) (k0_hw43 : k0_chk43 v330), ∀ a, (k0_off3049 v330) a + S1x1x1x8x128.size a ≤ S2x10x108x8x128.size a := fun v330 k0_hw43 => k0_hw43.1.2.2.2.2.2.2.2.2.2.2.2.2.2.1
theorem k0_off3052_inb : ∀ (v330 : BitVec 32) (k0_hw43 : k0_chk43 v330), ∀ a, (k0_off3052 v330) a + S1x1x1x8x128.size a ≤ S2x10x108x8x128.size a := fun v330 k0_hw43 => k0_hw43.1.2.2.2.2.2.2.2.2.2.2.2.2.2.2.1
theorem k0_off3054_inb : ∀ (v330 : BitVec 32) (k0_hw43 : k0_chk43 v330), ∀ a, (k0_off3054 v330) a + S1x1x1x8x128.size a ≤ S2x10x108x8x128.size a := fun v330 k0_hw43 => k0_hw43.1.2.2.2.2.2.2.2.2.2.2.2.2.2.2.2.1
theorem k0_off3057_inb : ∀ (v330 : BitVec 32) (k0_hw43 : k0_chk43 v330), ∀ a, (k0_off3057 v330) a + S1x1x1x8x128.size a ≤ S2x10x108x8x128.size a := fun v330 k0_hw43 => k0_hw43.1.2.2.2.2.2.2.2.2.2.2.2.2.2.2.2.2.1
theorem k0_off3059_inb : ∀ (v330 : BitVec 32) (k0_hw43 : k0_chk43 v330), ∀ a, (k0_off3059 v330) a + S1x1x1x8x128.size a ≤ S2x10x108x8x128.size a := fun v330 k0_hw43 => k0_hw43.1.2.2.2.2.2.2.2.2.2.2.2.2.2.2.2.2.2.1
theorem k0_off3062_inb : ∀ (v330 : BitVec 32) (k0_hw43 : k0_chk43 v330), ∀ a, (k0_off3062 v330) a + S1x1x1x8x128.size a ≤ S2x10x108x8x128.size a := fun v330 k0_hw43 => k0_hw43.1.2.2.2.2.2.2.2.2.2.2.2.2.2.2.2.2.2.2.1
theorem k0_off3064_inb : ∀ (v330 : BitVec 32) (k0_hw43 : k0_chk43 v330), ∀ a, (k0_off3064 v330) a + S1x1x1x8x128.size a ≤ S2x10x108x8x128.size a := fun v330 k0_hw43 => k0_hw43.1.2.2.2.2.2.2.2.2.2.2.2.2.2.2.2.2.2.2.2.1
theorem k0_off3067_inb : ∀ (v330 : BitVec 32) (k0_hw43 : k0_chk43 v330), ∀ a, (k0_off3067 v330) a + S1x1x1x8x128.size a ≤ S2x10x108x8x128.size a := fun v330 k0_hw43 => k0_hw43.1.2.2.2.2.2.2.2.2.2.2.2.2.2.2.2.2.2.2.2.2.1
theorem k0_off3069_inb : ∀ (v330 : BitVec 32) (k0_hw43 : k0_chk43 v330), ∀ a, (k0_off3069 v330) a + S1x1x1x8x128.size a ≤ S2x10x108x8x128.size a := fun v330 k0_hw43 => k0_hw43.1.2.2.2.2.2.2.2.2.2.2.2.2.2.2.2.2.2.2.2.2.2.1
theorem k0_off3072_inb : ∀ (v330 : BitVec 32) (k0_hw43 : k0_chk43 v330), ∀ a, (k0_off3072 v330) a + S1x1x1x8x128.size a ≤ S2x10x108x8x128.size a := fun v330 k0_hw43 => k0_hw43.1.2.2.2.2.2.2.2.2.2.2.2.2.2.2.2.2.2.2.2.2.2.2.1
theorem k0_off3074_inb : ∀ (v330 : BitVec 32) (k0_hw43 : k0_chk43 v330), ∀ a, (k0_off3074 v330) a + S1x1x1x8x128.size a ≤ S2x10x108x8x128.size a := fun v330 k0_hw43 => k0_hw43.1.2.2.2.2.2.2.2.2.2.2.2.2.2.2.2.2.2.2.2.2.2.2.2.1
theorem k0_off3077_inb : ∀ (v330 : BitVec 32) (k0_hw43 : k0_chk43 v330), ∀ a, (k0_off3077 v330) a + S1x1x1x8x128.size a ≤ S2x10x108x8x128.size a := fun v330 k0_hw43 => k0_hw43.1.2.2.2.2.2.2.2.2.2.2.2.2.2.2.2.2.2.2.2.2.2.2.2.2.1
theorem k0_off3079_inb : ∀ (v330 : BitVec 32) (k0_hw43 : k0_chk43 v330), ∀ a, (k0_off3079 v330) a + S1x1x1x8x128.size a ≤ S2x10x108x8x128.size a := fun v330 k0_hw43 => k0_hw43.1.2.2.2.2.2.2.2.2.2.2.2.2.2.2.2.2.2.2.2.2.2.2.2.2.2.1
theorem k0_off3082_inb : ∀ (v330 : BitVec 32) (k0_hw43 : k0_chk43 v330), ∀ a, (k0_off3082 v330) a + S1x1x1x8x128.size a ≤ S2x10x108x8x128.size a := fun v330 k0_hw43 => k0_hw43.1.2.2.2.2.2.2.2.2.2.2.2.2.2.2.2.2.2.2.2.2.2.2.2.2.2.2.1
theorem k0_off3084_inb : ∀ (v330 : BitVec 32) (k0_hw43 : k0_chk43 v330), ∀ a, (k0_off3084 v330) a + S1x1x1x8x128.size a ≤ S2x10x108x8x128.size a := fun v330 k0_hw43 => k0_hw43.1.2.2.2.2.2.2.2.2.2.2.2.2.2.2.2.2.2.2.2.2.2.2.2.2.2.2.2.1
theorem k0_off3087_inb : ∀ (v330 : BitVec 32) (k0_hw43 : k0_chk43 v330), ∀ a, (k0_off3087 v330) a + S1x1x1x8x128.size a ≤ S2x10x108x8x128.size a := fun v330 k0_hw43 => k0_hw43.1.2.2.2.2.2.2.2.2.2.2.2.2.2.2.2.2.2.2.2.2.2.2.2.2.2.2.2.2.1
theorem k0_off3089_inb : ∀ (v330 : BitVec 32) (k0_hw43 : k0_chk43 v330), ∀ a, (k0_off3089 v330) a + S1x1x1x8x128.size a ≤ S2x10x108x8x128.size a := fun v330 k0_hw43 => k0_hw43.1.2.2.2.2.2.2.2.2.2.2.2.2.2.2.2.2.2.2.2.2.2.2.2.2.2.2.2.2.2.1
theorem k0_off3092_inb : ∀ (v330 : BitVec 32) (k0_hw43 : k0_chk43 v330), ∀ a, (k0_off3092 v330) a + S1x1x1x8x128.size a ≤ S2x10x108x8x128.size a := fun v330 k0_hw43 => k0_hw43.1.2.2.2.2.2.2.2.2.2.2.2.2.2.2.2.2.2.2.2.2.2.2.2.2.2.2.2.2.2.2.1
theorem k0_off3094_inb : ∀ (v330 : BitVec 32) (k0_hw43 : k0_chk43 v330), ∀ a, (k0_off3094 v330) a + S1x1x1x8x128.size a ≤ S2x10x108x8x128.size a := fun v330 k0_hw43 => k0_hw43.1.2.2.2.2.2.2.2.2.2.2.2.2.2.2.2.2.2.2.2.2.2.2.2.2.2.2.2.2.2.2.2
theorem k0_off3097_inb : ∀ (v330 : BitVec 32) (k0_hw43 : k0_chk43 v330), ∀ a, (k0_off3097 v330) a + S1x1x1x8x128.size a ≤ S2x10x108x8x128.size a := fun v330 k0_hw43 => k0_hw43.2.1.1
theorem k0_off3099_inb : ∀ (v330 : BitVec 32) (k0_hw43 : k0_chk43 v330), ∀ a, (k0_off3099 v330) a + S1x1x1x8x128.size a ≤ S2x10x108x8x128.size a := fun v330 k0_hw43 => k0_hw43.2.1.2.1
theorem k0_off3102_inb : ∀ (v330 : BitVec 32) (k0_hw43 : k0_chk43 v330), ∀ a, (k0_off3102 v330) a + S1x1x1x8x128.size a ≤ S2x10x108x8x128.size a := fun v330 k0_hw43 => k0_hw43.2.1.2.2.1
theorem k0_off3104_inb : ∀ (v330 : BitVec 32) (k0_hw43 : k0_chk43 v330), ∀ a, (k0_off3104 v330) a + S1x1x1x8x128.size a ≤ S2x10x108x8x128.size a := fun v330 k0_hw43 => k0_hw43.2.1.2.2.2.1
theorem k0_off3107_inb : ∀ (v330 : BitVec 32) (k0_hw43 : k0_chk43 v330), ∀ a, (k0_off3107 v330) a + S1x1x1x8x128.size a ≤ S2x10x108x8x128.size a := fun v330 k0_hw43 => k0_hw43.2.1.2.2.2.2.1
theorem k0_off3109_inb : ∀ (v330 : BitVec 32) (k0_hw43 : k0_chk43 v330), ∀ a, (k0_off3109 v330) a + S1x1x1x8x128.size a ≤ S2x10x108x8x128.size a := fun v330 k0_hw43 => k0_hw43.2.1.2.2.2.2.2.1
theorem k0_off3112_inb : ∀ (v330 : BitVec 32) (k0_hw43 : k0_chk43 v330), ∀ a, (k0_off3112 v330) a + S1x1x1x8x128.size a ≤ S2x10x108x8x128.size a := fun v330 k0_hw43 => k0_hw43.2.1.2.2.2.2.2.2.1
theorem k0_off3114_inb : ∀ (v330 : BitVec 32) (k0_hw43 : k0_chk43 v330), ∀ a, (k0_off3114 v330) a + S1x1x1x8x128.size a ≤ S2x10x108x8x128.size a := fun v330 k0_hw43 => k0_hw43.2.1.2.2.2.2.2.2.2.1
theorem k0_off3117_inb : ∀ (v330 : BitVec 32) (k0_hw43 : k0_chk43 v330), ∀ a, (k0_off3117 v330) a + S1x1x1x8x128.size a ≤ S2x10x108x8x128.size a := fun v330 k0_hw43 => k0_hw43.2.1.2.2.2.2.2.2.2.2.1
theorem k0_off3119_inb : ∀ (v330 : BitVec 32) (k0_hw43 : k0_chk43 v330), ∀ a, (k0_off3119 v330) a + S1x1x1x8x128.size a ≤ S2x10x108x8x128.size a := fun v330 k0_hw43 => k0_hw43.2.1.2.2.2.2.2.2.2.2.2.1
theorem k0_off3122_inb : ∀ (v330 : BitVec 32) (k0_hw43 : k0_chk43 v330), ∀ a, (k0_off3122 v330) a + S1x1x1x8x128.size a ≤ S2x10x108x8x128.size a := fun v330 k0_hw43 => k0_hw43.2.1.2.2.2.2.2.2.2.2.2.2.1
theorem k0_off3124_inb : ∀ (v330 : BitVec 32) (k0_hw43 : k0_chk43 v330), ∀ a, (k0_off3124 v330) a + S1x1x1x8x128.size a ≤ S2x10x108x8x128.size a := fun v330 k0_hw43 => k0_hw43.2.1.2.2.2.2.2.2.2.2.2.2.2.1
theorem k0_off3127_inb : ∀ (v330 : BitVec 32) (k0_hw43 : k0_chk43 v330), ∀ a, (k0_off3127 v330) a + S1x1x1x8x128.size a ≤ S2x10x108x8x128.size a := fun v330 k0_hw43 => k0_hw43.2.1.2.2.2.2.2.2.2.2.2.2.2.2.1
theorem k0_off3129_inb : ∀ (v330 : BitVec 32) (k0_hw43 : k0_chk43 v330), ∀ a, (k0_off3129 v330) a + S1x1x1x8x128.size a ≤ S2x10x108x8x128.size a := fun v330 k0_hw43 => k0_hw43.2.1.2.2.2.2.2.2.2.2.2.2.2.2.2.1
theorem k0_off3132_inb : ∀ (v330 : BitVec 32) (k0_hw43 : k0_chk43 v330), ∀ a, (k0_off3132 v330) a + S1x1x1x8x128.size a ≤ S2x10x108x8x128.size a := fun v330 k0_hw43 => k0_hw43.2.1.2.2.2.2.2.2.2.2.2.2.2.2.2.2.1
theorem k0_off3134_inb : ∀ (v330 : BitVec 32) (k0_hw43 : k0_chk43 v330), ∀ a, (k0_off3134 v330) a + S1x1x1x8x128.size a ≤ S2x10x108x8x128.size a := fun v330 k0_hw43 => k0_hw43.2.1.2.2.2.2.2.2.2.2.2.2.2.2.2.2.2.1
theorem k0_off3137_inb : ∀ (v330 : BitVec 32) (k0_hw43 : k0_chk43 v330), ∀ a, (k0_off3137 v330) a + S1x1x1x8x128.size a ≤ S2x10x108x8x128.size a := fun v330 k0_hw43 => k0_hw43.2.1.2.2.2.2.2.2.2.2.2.2.2.2.2.2.2.2.1
theorem k0_off3139_inb : ∀ (v330 : BitVec 32) (k0_hw43 : k0_chk43 v330), ∀ a, (k0_off3139 v330) a + S1x1x1x8x128.size a ≤ S2x10x108x8x128.size a := fun v330 k0_hw43 => k0_hw43.2.1.2.2.2.2.2.2.2.2.2.2.2.2.2.2.2.2.2.1
theorem k0_off3142_inb : ∀ (v330 : BitVec 32) (k0_hw43 : k0_chk43 v330), ∀ a, (k0_off3142 v330) a + S1x1x1x8x128.size a ≤ S2x10x108x8x128.size a := fun v330 k0_hw43 => k0_hw43.2.1.2.2.2.2.2.2.2.2.2.2.2.2.2.2.2.2.2.2.1
theorem k0_off3144_inb : ∀ (v330 : BitVec 32) (k0_hw43 : k0_chk43 v330), ∀ a, (k0_off3144 v330) a + S1x1x1x8x128.size a ≤ S2x10x108x8x128.size a := fun v330 k0_hw43 => k0_hw43.2.1.2.2.2.2.2.2.2.2.2.2.2.2.2.2.2.2.2.2.2.1
theorem k0_off3147_inb : ∀ (v330 : BitVec 32) (k0_hw43 : k0_chk43 v330), ∀ a, (k0_off3147 v330) a + S1x1x1x8x128.size a ≤ S2x10x108x8x128.size a := fun v330 k0_hw43 => k0_hw43.2.1.2.2.2.2.2.2.2.2.2.2.2.2.2.2.2.2.2.2.2.2.1
theorem k0_off3149_inb : ∀ (v330 : BitVec 32) (k0_hw43 : k0_chk43 v330), ∀ a, (k0_off3149 v330) a + S1x1x1x8x128.size a ≤ S2x10x108x8x128.size a := fun v330 k0_hw43 => k0_hw43.2.1.2.2.2.2.2.2.2.2.2.2.2.2.2.2.2.2.2.2.2.2.2.1
theorem k0_off3152_inb : ∀ (v330 : BitVec 32) (k0_hw43 : k0_chk43 v330), ∀ a, (k0_off3152 v330) a + S1x1x1x8x128.size a ≤ S2x10x108x8x128.size a := fun v330 k0_hw43 => k0_hw43.2.1.2.2.2.2.2.2.2.2.2.2.2.2.2.2.2.2.2.2.2.2.2.2.1
theorem k0_off3154_inb : ∀ (v330 : BitVec 32) (k0_hw43 : k0_chk43 v330), ∀ a, (k0_off3154 v330) a + S1x1x1x8x128.size a ≤ S2x10x108x8x128.size a := fun v330 k0_hw43 => k0_hw43.2.1.2.2.2.2.2.2.2.2.2.2.2.2.2.2.2.2.2.2.2.2.2.2.2.1
theorem k0_off3157_inb : ∀ (v330 : BitVec 32) (k0_hw43 : k0_chk43 v330), ∀ a, (k0_off3157 v330) a + S1x1x1x8x128.size a ≤ S2x10x108x8x128.size a := fun v330 k0_hw43 => k0_hw43.2.1.2.2.2.2.2.2.2.2.2.2.2.2.2.2.2.2.2.2.2.2.2.2.2.2.1
theorem k0_off3159_inb : ∀ (v330 : BitVec 32) (k0_hw43 : k0_chk43 v330), ∀ a, (k0_off3159 v330) a + S1x1x1x8x128.size a ≤ S2x10x108x8x128.size a := fun v330 k0_hw43 => k0_hw43.2.1.2.2.2.2.2.2.2.2.2.2.2.2.2.2.2.2.2.2.2.2.2.2.2.2.2.1
theorem k0_off3162_inb : ∀ (v330 : BitVec 32) (k0_hw43 : k0_chk43 v330), ∀ a, (k0_off3162 v330) a + S1x1x1x8x128.size a ≤ S2x10x108x8x128.size a := fun v330 k0_hw43 => k0_hw43.2.1.2.2.2.2.2.2.2.2.2.2.2.2.2.2.2.2.2.2.2.2.2.2.2.2.2.2.1
theorem k0_off3164_inb : ∀ (v330 : BitVec 32) (k0_hw43 : k0_chk43 v330), ∀ a, (k0_off3164 v330) a + S1x1x1x8x128.size a ≤ S2x10x108x8x128.size a := fun v330 k0_hw43 => k0_hw43.2.1.2.2.2.2.2.2.2.2.2.2.2.2.2.2.2.2.2.2.2.2.2.2.2.2.2.2.2.1
theorem k0_off3167_inb : ∀ (v330 : BitVec 32) (k0_hw43 : k0_chk43 v330), ∀ a, (k0_off3167 v330) a + S1x1x1x8x128.size a ≤ S2x10x108x8x128.size a := fun v330 k0_hw43 => k0_hw43.2.1.2.2.2.2.2.2.2.2.2.2.2.2.2.2.2.2.2.2.2.2.2.2.2.2.2.2.2.2.1
theorem k0_off3169_inb : ∀ (v330 : BitVec 32) (k0_hw43 : k0_chk43 v330), ∀ a, (k0_off3169 v330) a + S1x1x1x8x128.size a ≤ S2x10x108x8x128.size a := fun v330 k0_hw43 => k0_hw43.2.1.2.2.2.2.2.2.2.2.2.2.2.2.2.2.2.2.2.2.2.2.2.2.2.2.2.2.2.2.2.1
theorem k0_off3172_inb : ∀ (v330 : BitVec 32) (k0_hw43 : k0_chk43 v330), ∀ a, (k0_off3172 v330) a + S1x1x1x8x128.size a ≤ S2x10x108x8x128.size a := fun v330 k0_hw43 => k0_hw43.2.1.2.2.2.2.2.2.2.2.2.2.2.2.2.2.2.2.2.2.2.2.2.2.2.2.2.2.2.2.2.2.1
theorem k0_off3174_inb : ∀ (v330 : BitVec 32) (k0_hw43 : k0_chk43 v330), ∀ a, (k0_off3174 v330) a + S1x1x1x8x128.size a ≤ S2x10x108x8x128.size a := fun v330 k0_hw43 => k0_hw43.2.1.2.2.2.2.2.2.2.2.2.2.2.2.2.2.2.2.2.2.2.2.2.2.2.2.2.2.2.2.2.2.2
theorem k0_off3177_inb : ∀ (v330 : BitVec 32) (k0_hw43 : k0_chk43 v330), ∀ a, (k0_off3177 v330) a + S1x1x1x8x128.size a ≤ S2x10x108x8x128.size a := fun v330 k0_hw43 => k0_hw43.2.2.1.1
theorem k0_off3179_inb : ∀ (v330 : BitVec 32) (k0_hw43 : k0_chk43 v330), ∀ a, (k0_off3179 v330) a + S1x1x1x8x128.size a ≤ S2x10x108x8x128.size a := fun v330 k0_hw43 => k0_hw43.2.2.1.2.1
theorem k0_off3182_inb : ∀ (v330 : BitVec 32) (k0_hw43 : k0_chk43 v330), ∀ a, (k0_off3182 v330) a + S1x1x1x8x128.size a ≤ S2x10x108x8x128.size a := fun v330 k0_hw43 => k0_hw43.2.2.1.2.2.1
theorem k0_off3184_inb : ∀ (v330 : BitVec 32) (k0_hw43 : k0_chk43 v330), ∀ a, (k0_off3184 v330) a + S1x1x1x8x128.size a ≤ S2x10x108x8x128.size a := fun v330 k0_hw43 => k0_hw43.2.2.1.2.2.2.1
theorem k0_off3187_inb : ∀ (v330 : BitVec 32) (k0_hw43 : k0_chk43 v330), ∀ a, (k0_off3187 v330) a + S1x1x1x8x128.size a ≤ S2x10x108x8x128.size a := fun v330 k0_hw43 => k0_hw43.2.2.1.2.2.2.2.1
theorem k0_off3189_inb : ∀ (v330 : BitVec 32) (k0_hw43 : k0_chk43 v330), ∀ a, (k0_off3189 v330) a + S1x1x1x8x128.size a ≤ S2x10x108x8x128.size a := fun v330 k0_hw43 => k0_hw43.2.2.1.2.2.2.2.2.1
theorem k0_off3192_inb : ∀ (v330 : BitVec 32) (k0_hw43 : k0_chk43 v330), ∀ a, (k0_off3192 v330) a + S1x1x1x8x128.size a ≤ S2x10x108x8x128.size a := fun v330 k0_hw43 => k0_hw43.2.2.1.2.2.2.2.2.2.1
theorem k0_off3194_inb : ∀ (v330 : BitVec 32) (k0_hw43 : k0_chk43 v330), ∀ a, (k0_off3194 v330) a + S1x1x1x8x128.size a ≤ S2x10x108x8x128.size a := fun v330 k0_hw43 => k0_hw43.2.2.1.2.2.2.2.2.2.2.1
theorem k0_off3197_inb : ∀ (v330 : BitVec 32) (k0_hw43 : k0_chk43 v330), ∀ a, (k0_off3197 v330) a + S1x1x1x8x128.size a ≤ S2x10x108x8x128.size a := fun v330 k0_hw43 => k0_hw43.2.2.1.2.2.2.2.2.2.2.2.1
theorem k0_off3199_inb : ∀ (v330 : BitVec 32) (k0_hw43 : k0_chk43 v330), ∀ a, (k0_off3199 v330) a + S1x1x1x8x128.size a ≤ S2x10x108x8x128.size a := fun v330 k0_hw43 => k0_hw43.2.2.1.2.2.2.2.2.2.2.2.2.1
theorem k0_off3202_inb : ∀ (v330 : BitVec 32) (k0_hw43 : k0_chk43 v330), ∀ a, (k0_off3202 v330) a + S1x1x1x8x128.size a ≤ S2x10x108x8x128.size a := fun v330 k0_hw43 => k0_hw43.2.2.1.2.2.2.2.2.2.2.2.2.2.1
theorem k0_off3204_inb : ∀ (v330 : BitVec 32) (k0_hw43 : k0_chk43 v330), ∀ a, (k0_off3204 v330) a + S1x1x1x8x128.size a ≤ S2x10x108x8x128.size a := fun v330 k0_hw43 => k0_hw43.2.2.1.2.2.2.2.2.2.2.2.2.2.2.1
theorem k0_off3207_inb : ∀ (v330 : BitVec 32) (k0_hw43 : k0_chk43 v330), ∀ a, (k0_off3207 v330) a + S1x1x1x8x128.size a ≤ S2x10x108x8x128.size a := fun v330 k0_hw43 => k0_hw43.2.2.1.2.2.2.2.2.2.2.2.2.2.2.2.1
theorem k0_off3209_inb : ∀ (v330 : BitVec 32) (k0_hw43 : k0_chk43 v330), ∀ a, (k0_off3209 v330) a + S1x1x1x8x128.size a ≤ S2x10x108x8x128.size a := fun v330 k0_hw43 => k0_hw43.2.2.1.2.2.2.2.2.2.2.2.2.2.2.2.2.1
theorem k0_off3212_inb : ∀ (v330 : BitVec 32) (k0_hw43 : k0_chk43 v330), ∀ a, (k0_off3212 v330) a + S1x1x1x8x128.size a ≤ S2x10x108x8x128.size a := fun v330 k0_hw43 => k0_hw43.2.2.1.2.2.2.2.2.2.2.2.2.2.2.2.2.2.1
theorem k0_off3214_inb : ∀ (v330 : BitVec 32) (k0_hw43 : k0_chk43 v330), ∀ a, (k0_off3214 v330) a + S1x1x1x8x128.size a ≤ S2x10x108x8x128.size a := fun v330 k0_hw43 => k0_hw43.2.2.1.2.2.2.2.2.2.2.2.2.2.2.2.2.2.2.1
theorem k0_off3217_inb : ∀ (v330 : BitVec 32) (k0_hw43 : k0_chk43 v330), ∀ a, (k0_off3217 v330) a + S1x1x1x8x128.size a ≤ S2x10x108x8x128.size a := fun v330 k0_hw43 => k0_hw43.2.2.1.2.2.2.2.2.2.2.2.2.2.2.2.2.2.2.2.1
theorem k0_off3219_inb : ∀ (v330 : BitVec 32) (k0_hw43 : k0_chk43 v330), ∀ a, (k0_off3219 v330) a + S1x1x1x8x128.size a ≤ S2x10x108x8x128.size a := fun v330 k0_hw43 => k0_hw43.2.2.1.2.2.2.2.2.2.2.2.2.2.2.2.2.2.2.2.2.1
theorem k0_off3222_inb : ∀ (v330 : BitVec 32) (k0_hw43 : k0_chk43 v330), ∀ a, (k0_off3222 v330) a + S1x1x1x8x128.size a ≤ S2x10x108x8x128.size a := fun v330 k0_hw43 => k0_hw43.2.2.1.2.2.2.2.2.2.2.2.2.2.2.2.2.2.2.2.2.2.1
theorem k0_off3224_inb : ∀ (v330 : BitVec 32) (k0_hw43 : k0_chk43 v330), ∀ a, (k0_off3224 v330) a + S1x1x1x8x128.size a ≤ S2x10x108x8x128.size a := fun v330 k0_hw43 => k0_hw43.2.2.1.2.2.2.2.2.2.2.2.2.2.2.2.2.2.2.2.2.2.2.1
theorem k0_off3227_inb : ∀ (v330 : BitVec 32) (k0_hw43 : k0_chk43 v330), ∀ a, (k0_off3227 v330) a + S1x1x1x8x128.size a ≤ S2x10x108x8x128.size a := fun v330 k0_hw43 => k0_hw43.2.2.1.2.2.2.2.2.2.2.2.2.2.2.2.2.2.2.2.2.2.2.2.1
theorem k0_off3229_inb : ∀ (v330 : BitVec 32) (k0_hw43 : k0_chk43 v330), ∀ a, (k0_off3229 v330) a + S1x1x1x8x128.size a ≤ S2x10x108x8x128.size a := fun v330 k0_hw43 => k0_hw43.2.2.1.2.2.2.2.2.2.2.2.2.2.2.2.2.2.2.2.2.2.2.2.2.1
theorem k0_off3232_inb : ∀ (v330 : BitVec 32) (k0_hw43 : k0_chk43 v330), ∀ a, (k0_off3232 v330) a + S1x1x1x8x128.size a ≤ S2x10x108x8x128.size a := fun v330 k0_hw43 => k0_hw43.2.2.1.2.2.2.2.2.2.2.2.2.2.2.2.2.2.2.2.2.2.2.2.2.2.1
theorem k0_off3234_inb : ∀ (v330 : BitVec 32) (k0_hw43 : k0_chk43 v330), ∀ a, (k0_off3234 v330) a + S1x1x1x8x128.size a ≤ S2x10x108x8x128.size a := fun v330 k0_hw43 => k0_hw43.2.2.1.2.2.2.2.2.2.2.2.2.2.2.2.2.2.2.2.2.2.2.2.2.2.2.1
theorem k0_off3237_inb : ∀ (v330 : BitVec 32) (k0_hw43 : k0_chk43 v330), ∀ a, (k0_off3237 v330) a + S1x1x1x8x128.size a ≤ S2x10x108x8x128.size a := fun v330 k0_hw43 => k0_hw43.2.2.1.2.2.2.2.2.2.2.2.2.2.2.2.2.2.2.2.2.2.2.2.2.2.2.2.1
theorem k0_off3239_inb : ∀ (v330 : BitVec 32) (k0_hw43 : k0_chk43 v330), ∀ a, (k0_off3239 v330) a + S1x1x1x8x128.size a ≤ S2x10x108x8x128.size a := fun v330 k0_hw43 => k0_hw43.2.2.1.2.2.2.2.2.2.2.2.2.2.2.2.2.2.2.2.2.2.2.2.2.2.2.2.2.1
theorem k0_off3242_inb : ∀ (v330 : BitVec 32) (k0_hw43 : k0_chk43 v330), ∀ a, (k0_off3242 v330) a + S1x1x1x8x128.size a ≤ S2x10x108x8x128.size a := fun v330 k0_hw43 => k0_hw43.2.2.1.2.2.2.2.2.2.2.2.2.2.2.2.2.2.2.2.2.2.2.2.2.2.2.2.2.2.1
theorem k0_off3244_inb : ∀ (v330 : BitVec 32) (k0_hw43 : k0_chk43 v330), ∀ a, (k0_off3244 v330) a + S1x1x1x8x128.size a ≤ S2x10x108x8x128.size a := fun v330 k0_hw43 => k0_hw43.2.2.1.2.2.2.2.2.2.2.2.2.2.2.2.2.2.2.2.2.2.2.2.2.2.2.2.2.2.2.1
theorem k0_off3247_inb : ∀ (v330 : BitVec 32) (k0_hw43 : k0_chk43 v330), ∀ a, (k0_off3247 v330) a + S1x1x1x8x128.size a ≤ S2x10x108x8x128.size a := fun v330 k0_hw43 => k0_hw43.2.2.1.2.2.2.2.2.2.2.2.2.2.2.2.2.2.2.2.2.2.2.2.2.2.2.2.2.2.2.2.1
theorem k0_off3249_inb : ∀ (v330 : BitVec 32) (k0_hw43 : k0_chk43 v330), ∀ a, (k0_off3249 v330) a + S1x1x1x8x128.size a ≤ S2x10x108x8x128.size a := fun v330 k0_hw43 => k0_hw43.2.2.1.2.2.2.2.2.2.2.2.2.2.2.2.2.2.2.2.2.2.2.2.2.2.2.2.2.2.2.2.2.1
theorem k0_off3252_inb : ∀ (v330 : BitVec 32) (k0_hw43 : k0_chk43 v330), ∀ a, (k0_off3252 v330) a + S1x1x1x8x128.size a ≤ S2x10x108x8x128.size a := fun v330 k0_hw43 => k0_hw43.2.2.1.2.2.2.2.2.2.2.2.2.2.2.2.2.2.2.2.2.2.2.2.2.2.2.2.2.2.2.2.2.2.1
theorem k0_off3254_inb : ∀ (v330 : BitVec 32) (k0_hw43 : k0_chk43 v330), ∀ a, (k0_off3254 v330) a + S1x1x1x8x128.size a ≤ S2x10x108x8x128.size a := fun v330 k0_hw43 => k0_hw43.2.2.1.2.2.2.2.2.2.2.2.2.2.2.2.2.2.2.2.2.2.2.2.2.2.2.2.2.2.2.2.2.2.2
theorem k0_off3257_inb : ∀ (v330 : BitVec 32) (k0_hw43 : k0_chk43 v330), ∀ a, (k0_off3257 v330) a + S1x1x1x8x128.size a ≤ S2x10x108x8x128.size a := fun v330 k0_hw43 => k0_hw43.2.2.2.1
theorem k0_off3259_inb : ∀ (v330 : BitVec 32) (k0_hw43 : k0_chk43 v330), ∀ a, (k0_off3259 v330) a + S1x1x1x8x128.size a ≤ S2x10x108x8x128.size a := fun v330 k0_hw43 => k0_hw43.2.2.2.2.1
theorem k0_off3262_inb : ∀ (v330 : BitVec 32) (k0_hw43 : k0_chk43 v330), ∀ a, (k0_off3262 v330) a + S1x1x1x8x128.size a ≤ S2x10x108x8x128.size a := fun v330 k0_hw43 => k0_hw43.2.2.2.2.2.1
theorem k0_off3264_inb : ∀ (v330 : BitVec 32) (k0_hw43 : k0_chk43 v330), ∀ a, (k0_off3264 v330) a + S1x1x1x8x128.size a ≤ S2x10x108x8x128.size a := fun v330 k0_hw43 => k0_hw43.2.2.2.2.2.2.1
theorem k0_off3267_inb : ∀ (v330 : BitVec 32) (k0_hw43 : k0_chk43 v330), ∀ a, (k0_off3267 v330) a + S1x1x1x8x128.size a ≤ S2x10x108x8x128.size a := fun v330 k0_hw43 => k0_hw43.2.2.2.2.2.2.2.1
theorem k0_off3269_inb : ∀ (v330 : BitVec 32) (k0_hw43 : k0_chk43 v330), ∀ a, (k0_off3269 v330) a + S1x1x1x8x128.size a ≤ S2x10x108x8x128.size a := fun v330 k0_hw43 => k0_hw43.2.2.2.2.2.2.2.2.1
theorem k0_off3272_inb : ∀ (v330 : BitVec 32) (k0_hw43 : k0_chk43 v330), ∀ a, (k0_off3272 v330) a + S1x1x1x8x128.size a ≤ S2x10x108x8x128.size a := fun v330 k0_hw43 => k0_hw43.2.2.2.2.2.2.2.2.2.1
theorem k0_off3274_inb : ∀ (v330 : BitVec 32) (k0_hw43 : k0_chk43 v330), ∀ a, (k0_off3274 v330) a + S1x1x1x8x128.size a ≤ S2x10x108x8x128.size a := fun v330 k0_hw43 => k0_hw43.2.2.2.2.2.2.2.2.2.2.1
theorem k0_off3277_inb : ∀ (v330 : BitVec 32) (k0_hw43 : k0_chk43 v330), ∀ a, (k0_off3277 v330) a + S1x1x1x8x128.size a ≤ S2x10x108x8x128.size a := fun v330 k0_hw43 => k0_hw43.2.2.2.2.2.2.2.2.2.2.2.1
theorem k0_off3279_inb : ∀ (v330 : BitVec 32) (k0_hw43 : k0_chk43 v330), ∀ a, (k0_off3279 v330) a + S1x1x1x8x128.size a ≤ S2x10x108x8x128.size a := fun v330 k0_hw43 => k0_hw43.2.2.2.2.2.2.2.2.2.2.2.2.1
theorem k0_off3282_inb : ∀ (v330 : BitVec 32) (k0_hw43 : k0_chk43 v330), ∀ a, (k0_off3282 v330) a + S1x1x1x8x128.size a ≤ S2x10x108x8x128.size a := fun v330 k0_hw43 => k0_hw43.2.2.2.2.2.2.2.2.2.2.2.2.2.1
theorem k0_off3284_inb : ∀ (v330 : BitVec 32) (k0_hw43 : k0_chk43 v330), ∀ a, (k0_off3284 v330) a + S1x1x1x8x128.size a ≤ S2x10x108x8x128.size a := fun v330 k0_hw43 => k0_hw43.2.2.2.2.2.2.2.2.2.2.2.2.2.2

def k0_off3285 (v1 : BitVec 32) (k0_t51 : Fin (k0_t51_loop v1).trips) (v228 : BitVec 32) (v257 : BitVec 32) (k0_t63 : Fin (k0_t63_loop v228 v257).trips) : Fin 5 → Nat :=
  let c1_1447 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v3024 : Index := Scalar.indexCast v226
  let c107_1448 : Index := 107#32
  let c0_i32_433 : BitVec 32 := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let v304 : BitVec 32 := Scalar.subi v265 c0_i32_433
  let c1_i32_434 : BitVec 32 := 1#32
  let v306 : BitVec 32 := Scalar.divsi v304 c1_i32_434
  let v307 : BitVec 32 := Scalar.muli v306 c1_i32_434
  let v308 : BitVec 32 := Scalar.addi c0_i32_433 v307
  let c1_i32_436 : BitVec 32 := 1#32
  let arg19 : BitVec 32 := Scf.iv v308 c1_i32_436 k0_t63
  let c16_i32_473 : BitVec 32 := 16#32
  let v381 : BitVec 32 := Scalar.muli arg19 c16_i32_473
  let v382 : BitVec 32 := v381
  let v3025 : Index := Scalar.indexCast v382
  let c0_1449 : Index := 0#32
  ![1, v3024.toNat, 107, v3025.toNat, 0]
@[reducible] def k0_t64_loop (v228 : BitVec 32) (v257 : BitVec 32) : Scf.Loop 32 :=
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_440 : BitVec 32 := 1#32
  ⟨v265, v313, c1_i32_440⟩
def k0_mult26 (v228 : BitVec 32) (v257 : BitVec 32) (k0_t64 : Fin (k0_t64_loop v228 v257).trips) : BitVec 32 :=
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  v326
def k0_off3286 (v1 : BitVec 32) (k0_t51 : Fin (k0_t51_loop v1).trips) (v228 : BitVec 32) (v257 : BitVec 32) (k0_t64 : Fin (k0_t64_loop v228 v257).trips) : Fin 5 → Nat :=
  let c1 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v329 : Index := Scalar.indexCast v226
  let c0 : Index := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v330 : Index := Scalar.indexCast v327
  let c0_453 : Index := 0#32
  ![1, v329.toNat, 0, v330.toNat, 0]
def k0_off3287 (v1 : BitVec 32) (k0_t51 : Fin (k0_t51_loop v1).trips) (v228 : BitVec 32) (v257 : BitVec 32) (k0_t64 : Fin (k0_t64_loop v228 v257).trips) : Fin 5 → Nat :=
  let c1_455 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v335 : Index := Scalar.indexCast v226
  let c1_456 : Index := 1#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v336 : Index := Scalar.indexCast v327
  let c0_457 : Index := 0#32
  ![1, v335.toNat, 1, v336.toNat, 0]
def k0_off3288 (v1 : BitVec 32) (k0_t51 : Fin (k0_t51_loop v1).trips) (v228 : BitVec 32) (v257 : BitVec 32) (k0_t64 : Fin (k0_t64_loop v228 v257).trips) : Fin 5 → Nat :=
  let c1_459 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v341 : Index := Scalar.indexCast v226
  let c2 : Index := 2#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v342 : Index := Scalar.indexCast v327
  let c0_460 : Index := 0#32
  ![1, v341.toNat, 2, v342.toNat, 0]
def k0_off3289 (v1 : BitVec 32) (k0_t51 : Fin (k0_t51_loop v1).trips) (v228 : BitVec 32) (v257 : BitVec 32) (k0_t64 : Fin (k0_t64_loop v228 v257).trips) : Fin 5 → Nat :=
  let c1_462 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v347 : Index := Scalar.indexCast v226
  let c3 : Index := 3#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v348 : Index := Scalar.indexCast v327
  let c0_463 : Index := 0#32
  ![1, v347.toNat, 3, v348.toNat, 0]
def k0_off3290 (v1 : BitVec 32) (k0_t51 : Fin (k0_t51_loop v1).trips) (v228 : BitVec 32) (v257 : BitVec 32) (k0_t64 : Fin (k0_t64_loop v228 v257).trips) : Fin 5 → Nat :=
  let c1_465 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v353 : Index := Scalar.indexCast v226
  let c4 : Index := 4#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v354 : Index := Scalar.indexCast v327
  let c0_466 : Index := 0#32
  ![1, v353.toNat, 4, v354.toNat, 0]
def k0_off3291 (v1 : BitVec 32) (k0_t51 : Fin (k0_t51_loop v1).trips) (v228 : BitVec 32) (v257 : BitVec 32) (k0_t64 : Fin (k0_t64_loop v228 v257).trips) : Fin 5 → Nat :=
  let c1_468 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v359 : Index := Scalar.indexCast v226
  let c5 : Index := 5#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v360 : Index := Scalar.indexCast v327
  let c0_469 : Index := 0#32
  ![1, v359.toNat, 5, v360.toNat, 0]
def k0_off3292 (v1 : BitVec 32) (k0_t51 : Fin (k0_t51_loop v1).trips) (v228 : BitVec 32) (v257 : BitVec 32) (k0_t64 : Fin (k0_t64_loop v228 v257).trips) : Fin 5 → Nat :=
  let c1_471 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v365 : Index := Scalar.indexCast v226
  let c6 : Index := 6#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v366 : Index := Scalar.indexCast v327
  let c0_472 : Index := 0#32
  ![1, v365.toNat, 6, v366.toNat, 0]
def k0_off3293 (v1 : BitVec 32) (k0_t51 : Fin (k0_t51_loop v1).trips) (v228 : BitVec 32) (v257 : BitVec 32) (k0_t64 : Fin (k0_t64_loop v228 v257).trips) : Fin 5 → Nat :=
  let c1_474 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v371 : Index := Scalar.indexCast v226
  let c7 : Index := 7#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v372 : Index := Scalar.indexCast v327
  let c0_475 : Index := 0#32
  ![1, v371.toNat, 7, v372.toNat, 0]
def k0_off3294 (v1 : BitVec 32) (k0_t51 : Fin (k0_t51_loop v1).trips) (v228 : BitVec 32) (v257 : BitVec 32) (k0_t64 : Fin (k0_t64_loop v228 v257).trips) : Fin 5 → Nat :=
  let c1_477 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v377 : Index := Scalar.indexCast v226
  let c8 : Index := 8#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v378 : Index := Scalar.indexCast v327
  let c0_478 : Index := 0#32
  ![1, v377.toNat, 8, v378.toNat, 0]
def k0_off3295 (v1 : BitVec 32) (k0_t51 : Fin (k0_t51_loop v1).trips) (v228 : BitVec 32) (v257 : BitVec 32) (k0_t64 : Fin (k0_t64_loop v228 v257).trips) : Fin 5 → Nat :=
  let c1_480 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v383 : Index := Scalar.indexCast v226
  let c9 : Index := 9#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v384 : Index := Scalar.indexCast v327
  let c0_481 : Index := 0#32
  ![1, v383.toNat, 9, v384.toNat, 0]
def k0_off3296 (v1 : BitVec 32) (k0_t51 : Fin (k0_t51_loop v1).trips) (v228 : BitVec 32) (v257 : BitVec 32) (k0_t64 : Fin (k0_t64_loop v228 v257).trips) : Fin 5 → Nat :=
  let c1_483 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v389 : Index := Scalar.indexCast v226
  let c10 : Index := 10#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v390 : Index := Scalar.indexCast v327
  let c0_484 : Index := 0#32
  ![1, v389.toNat, 10, v390.toNat, 0]
def k0_off3297 (v1 : BitVec 32) (k0_t51 : Fin (k0_t51_loop v1).trips) (v228 : BitVec 32) (v257 : BitVec 32) (k0_t64 : Fin (k0_t64_loop v228 v257).trips) : Fin 5 → Nat :=
  let c1_486 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v395 : Index := Scalar.indexCast v226
  let c11 : Index := 11#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v396 : Index := Scalar.indexCast v327
  let c0_487 : Index := 0#32
  ![1, v395.toNat, 11, v396.toNat, 0]
def k0_off3298 (v1 : BitVec 32) (k0_t51 : Fin (k0_t51_loop v1).trips) (v228 : BitVec 32) (v257 : BitVec 32) (k0_t64 : Fin (k0_t64_loop v228 v257).trips) : Fin 5 → Nat :=
  let c1_489 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v401 : Index := Scalar.indexCast v226
  let c12 : Index := 12#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v402 : Index := Scalar.indexCast v327
  let c0_490 : Index := 0#32
  ![1, v401.toNat, 12, v402.toNat, 0]
def k0_off3299 (v1 : BitVec 32) (k0_t51 : Fin (k0_t51_loop v1).trips) (v228 : BitVec 32) (v257 : BitVec 32) (k0_t64 : Fin (k0_t64_loop v228 v257).trips) : Fin 5 → Nat :=
  let c1_492 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v407 : Index := Scalar.indexCast v226
  let c13 : Index := 13#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v408 : Index := Scalar.indexCast v327
  let c0_493 : Index := 0#32
  ![1, v407.toNat, 13, v408.toNat, 0]
def k0_off3300 (v1 : BitVec 32) (k0_t51 : Fin (k0_t51_loop v1).trips) (v228 : BitVec 32) (v257 : BitVec 32) (k0_t64 : Fin (k0_t64_loop v228 v257).trips) : Fin 5 → Nat :=
  let c1_495 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v413 : Index := Scalar.indexCast v226
  let c14 : Index := 14#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v414 : Index := Scalar.indexCast v327
  let c0_496 : Index := 0#32
  ![1, v413.toNat, 14, v414.toNat, 0]
def k0_off3301 (v1 : BitVec 32) (k0_t51 : Fin (k0_t51_loop v1).trips) (v228 : BitVec 32) (v257 : BitVec 32) (k0_t64 : Fin (k0_t64_loop v228 v257).trips) : Fin 5 → Nat :=
  let c1_498 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v419 : Index := Scalar.indexCast v226
  let c15 : Index := 15#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v420 : Index := Scalar.indexCast v327
  let c0_499 : Index := 0#32
  ![1, v419.toNat, 15, v420.toNat, 0]
def k0_off3302 (v1 : BitVec 32) (k0_t51 : Fin (k0_t51_loop v1).trips) (v228 : BitVec 32) (v257 : BitVec 32) (k0_t64 : Fin (k0_t64_loop v228 v257).trips) : Fin 5 → Nat :=
  let c1_501 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v425 : Index := Scalar.indexCast v226
  let c16 : Index := 16#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v426 : Index := Scalar.indexCast v327
  let c0_502 : Index := 0#32
  ![1, v425.toNat, 16, v426.toNat, 0]
def k0_off3303 (v1 : BitVec 32) (k0_t51 : Fin (k0_t51_loop v1).trips) (v228 : BitVec 32) (v257 : BitVec 32) (k0_t64 : Fin (k0_t64_loop v228 v257).trips) : Fin 5 → Nat :=
  let c1_504 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v431 : Index := Scalar.indexCast v226
  let c17 : Index := 17#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v432 : Index := Scalar.indexCast v327
  let c0_505 : Index := 0#32
  ![1, v431.toNat, 17, v432.toNat, 0]
def k0_off3304 (v1 : BitVec 32) (k0_t51 : Fin (k0_t51_loop v1).trips) (v228 : BitVec 32) (v257 : BitVec 32) (k0_t64 : Fin (k0_t64_loop v228 v257).trips) : Fin 5 → Nat :=
  let c1_507 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v437 : Index := Scalar.indexCast v226
  let c18 : Index := 18#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v438 : Index := Scalar.indexCast v327
  let c0_508 : Index := 0#32
  ![1, v437.toNat, 18, v438.toNat, 0]
def k0_off3305 (v1 : BitVec 32) (k0_t51 : Fin (k0_t51_loop v1).trips) (v228 : BitVec 32) (v257 : BitVec 32) (k0_t64 : Fin (k0_t64_loop v228 v257).trips) : Fin 5 → Nat :=
  let c1_510 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v443 : Index := Scalar.indexCast v226
  let c19 : Index := 19#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v444 : Index := Scalar.indexCast v327
  let c0_511 : Index := 0#32
  ![1, v443.toNat, 19, v444.toNat, 0]
def k0_off3306 (v1 : BitVec 32) (k0_t51 : Fin (k0_t51_loop v1).trips) (v228 : BitVec 32) (v257 : BitVec 32) (k0_t64 : Fin (k0_t64_loop v228 v257).trips) : Fin 5 → Nat :=
  let c1_513 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v449 : Index := Scalar.indexCast v226
  let c20 : Index := 20#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v450 : Index := Scalar.indexCast v327
  let c0_514 : Index := 0#32
  ![1, v449.toNat, 20, v450.toNat, 0]
def k0_off3307 (v1 : BitVec 32) (k0_t51 : Fin (k0_t51_loop v1).trips) (v228 : BitVec 32) (v257 : BitVec 32) (k0_t64 : Fin (k0_t64_loop v228 v257).trips) : Fin 5 → Nat :=
  let c1_516 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v455 : Index := Scalar.indexCast v226
  let c21 : Index := 21#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v456 : Index := Scalar.indexCast v327
  let c0_517 : Index := 0#32
  ![1, v455.toNat, 21, v456.toNat, 0]
def k0_off3308 (v1 : BitVec 32) (k0_t51 : Fin (k0_t51_loop v1).trips) (v228 : BitVec 32) (v257 : BitVec 32) (k0_t64 : Fin (k0_t64_loop v228 v257).trips) : Fin 5 → Nat :=
  let c1_519 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v461 : Index := Scalar.indexCast v226
  let c22 : Index := 22#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v462 : Index := Scalar.indexCast v327
  let c0_520 : Index := 0#32
  ![1, v461.toNat, 22, v462.toNat, 0]
def k0_off3309 (v1 : BitVec 32) (k0_t51 : Fin (k0_t51_loop v1).trips) (v228 : BitVec 32) (v257 : BitVec 32) (k0_t64 : Fin (k0_t64_loop v228 v257).trips) : Fin 5 → Nat :=
  let c1_522 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v467 : Index := Scalar.indexCast v226
  let c23 : Index := 23#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v468 : Index := Scalar.indexCast v327
  let c0_523 : Index := 0#32
  ![1, v467.toNat, 23, v468.toNat, 0]
def k0_off3310 (v1 : BitVec 32) (k0_t51 : Fin (k0_t51_loop v1).trips) (v228 : BitVec 32) (v257 : BitVec 32) (k0_t64 : Fin (k0_t64_loop v228 v257).trips) : Fin 5 → Nat :=
  let c1_525 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v473 : Index := Scalar.indexCast v226
  let c24 : Index := 24#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v474 : Index := Scalar.indexCast v327
  let c0_526 : Index := 0#32
  ![1, v473.toNat, 24, v474.toNat, 0]
def k0_off3311 (v1 : BitVec 32) (k0_t51 : Fin (k0_t51_loop v1).trips) (v228 : BitVec 32) (v257 : BitVec 32) (k0_t64 : Fin (k0_t64_loop v228 v257).trips) : Fin 5 → Nat :=
  let c1_528 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v479 : Index := Scalar.indexCast v226
  let c25 : Index := 25#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v480 : Index := Scalar.indexCast v327
  let c0_529 : Index := 0#32
  ![1, v479.toNat, 25, v480.toNat, 0]
def k0_off3312 (v1 : BitVec 32) (k0_t51 : Fin (k0_t51_loop v1).trips) (v228 : BitVec 32) (v257 : BitVec 32) (k0_t64 : Fin (k0_t64_loop v228 v257).trips) : Fin 5 → Nat :=
  let c1_531 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v485 : Index := Scalar.indexCast v226
  let c26 : Index := 26#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v486 : Index := Scalar.indexCast v327
  let c0_532 : Index := 0#32
  ![1, v485.toNat, 26, v486.toNat, 0]
def k0_off3313 (v1 : BitVec 32) (k0_t51 : Fin (k0_t51_loop v1).trips) (v228 : BitVec 32) (v257 : BitVec 32) (k0_t64 : Fin (k0_t64_loop v228 v257).trips) : Fin 5 → Nat :=
  let c1_534 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v491 : Index := Scalar.indexCast v226
  let c27 : Index := 27#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v492 : Index := Scalar.indexCast v327
  let c0_535 : Index := 0#32
  ![1, v491.toNat, 27, v492.toNat, 0]
def k0_off3314 (v1 : BitVec 32) (k0_t51 : Fin (k0_t51_loop v1).trips) (v228 : BitVec 32) (v257 : BitVec 32) (k0_t64 : Fin (k0_t64_loop v228 v257).trips) : Fin 5 → Nat :=
  let c1_537 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v497 : Index := Scalar.indexCast v226
  let c28 : Index := 28#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v498 : Index := Scalar.indexCast v327
  let c0_538 : Index := 0#32
  ![1, v497.toNat, 28, v498.toNat, 0]
def k0_off3315 (v1 : BitVec 32) (k0_t51 : Fin (k0_t51_loop v1).trips) (v228 : BitVec 32) (v257 : BitVec 32) (k0_t64 : Fin (k0_t64_loop v228 v257).trips) : Fin 5 → Nat :=
  let c1_540 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v503 : Index := Scalar.indexCast v226
  let c29 : Index := 29#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v504 : Index := Scalar.indexCast v327
  let c0_541 : Index := 0#32
  ![1, v503.toNat, 29, v504.toNat, 0]
def k0_off3316 (v1 : BitVec 32) (k0_t51 : Fin (k0_t51_loop v1).trips) (v228 : BitVec 32) (v257 : BitVec 32) (k0_t64 : Fin (k0_t64_loop v228 v257).trips) : Fin 5 → Nat :=
  let c1_543 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v509 : Index := Scalar.indexCast v226
  let c30 : Index := 30#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v510 : Index := Scalar.indexCast v327
  let c0_544 : Index := 0#32
  ![1, v509.toNat, 30, v510.toNat, 0]
def k0_off3317 (v1 : BitVec 32) (k0_t51 : Fin (k0_t51_loop v1).trips) (v228 : BitVec 32) (v257 : BitVec 32) (k0_t64 : Fin (k0_t64_loop v228 v257).trips) : Fin 5 → Nat :=
  let c1_546 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v515 : Index := Scalar.indexCast v226
  let c31 : Index := 31#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v516 : Index := Scalar.indexCast v327
  let c0_547 : Index := 0#32
  ![1, v515.toNat, 31, v516.toNat, 0]
def k0_off3318 (v1 : BitVec 32) (k0_t51 : Fin (k0_t51_loop v1).trips) (v228 : BitVec 32) (v257 : BitVec 32) (k0_t64 : Fin (k0_t64_loop v228 v257).trips) : Fin 5 → Nat :=
  let c1_549 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v521 : Index := Scalar.indexCast v226
  let c32 : Index := 32#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v522 : Index := Scalar.indexCast v327
  let c0_550 : Index := 0#32
  ![1, v521.toNat, 32, v522.toNat, 0]
def k0_off3319 (v1 : BitVec 32) (k0_t51 : Fin (k0_t51_loop v1).trips) (v228 : BitVec 32) (v257 : BitVec 32) (k0_t64 : Fin (k0_t64_loop v228 v257).trips) : Fin 5 → Nat :=
  let c1_552 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v527 : Index := Scalar.indexCast v226
  let c33 : Index := 33#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v528 : Index := Scalar.indexCast v327
  let c0_553 : Index := 0#32
  ![1, v527.toNat, 33, v528.toNat, 0]
def k0_off3320 (v1 : BitVec 32) (k0_t51 : Fin (k0_t51_loop v1).trips) (v228 : BitVec 32) (v257 : BitVec 32) (k0_t64 : Fin (k0_t64_loop v228 v257).trips) : Fin 5 → Nat :=
  let c1_555 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v533 : Index := Scalar.indexCast v226
  let c34 : Index := 34#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v534 : Index := Scalar.indexCast v327
  let c0_556 : Index := 0#32
  ![1, v533.toNat, 34, v534.toNat, 0]
def k0_off3321 (v1 : BitVec 32) (k0_t51 : Fin (k0_t51_loop v1).trips) (v228 : BitVec 32) (v257 : BitVec 32) (k0_t64 : Fin (k0_t64_loop v228 v257).trips) : Fin 5 → Nat :=
  let c1_558 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v539 : Index := Scalar.indexCast v226
  let c35 : Index := 35#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v540 : Index := Scalar.indexCast v327
  let c0_559 : Index := 0#32
  ![1, v539.toNat, 35, v540.toNat, 0]
def k0_off3322 (v1 : BitVec 32) (k0_t51 : Fin (k0_t51_loop v1).trips) (v228 : BitVec 32) (v257 : BitVec 32) (k0_t64 : Fin (k0_t64_loop v228 v257).trips) : Fin 5 → Nat :=
  let c1_561 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v545 : Index := Scalar.indexCast v226
  let c36 : Index := 36#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v546 : Index := Scalar.indexCast v327
  let c0_562 : Index := 0#32
  ![1, v545.toNat, 36, v546.toNat, 0]
def k0_off3323 (v1 : BitVec 32) (k0_t51 : Fin (k0_t51_loop v1).trips) (v228 : BitVec 32) (v257 : BitVec 32) (k0_t64 : Fin (k0_t64_loop v228 v257).trips) : Fin 5 → Nat :=
  let c1_564 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v551 : Index := Scalar.indexCast v226
  let c37 : Index := 37#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v552 : Index := Scalar.indexCast v327
  let c0_565 : Index := 0#32
  ![1, v551.toNat, 37, v552.toNat, 0]
def k0_off3324 (v1 : BitVec 32) (k0_t51 : Fin (k0_t51_loop v1).trips) (v228 : BitVec 32) (v257 : BitVec 32) (k0_t64 : Fin (k0_t64_loop v228 v257).trips) : Fin 5 → Nat :=
  let c1_567 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v557 : Index := Scalar.indexCast v226
  let c38 : Index := 38#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v558 : Index := Scalar.indexCast v327
  let c0_568 : Index := 0#32
  ![1, v557.toNat, 38, v558.toNat, 0]
def k0_off3325 (v1 : BitVec 32) (k0_t51 : Fin (k0_t51_loop v1).trips) (v228 : BitVec 32) (v257 : BitVec 32) (k0_t64 : Fin (k0_t64_loop v228 v257).trips) : Fin 5 → Nat :=
  let c1_570 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v563 : Index := Scalar.indexCast v226
  let c39 : Index := 39#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v564 : Index := Scalar.indexCast v327
  let c0_571 : Index := 0#32
  ![1, v563.toNat, 39, v564.toNat, 0]
def k0_off3326 (v1 : BitVec 32) (k0_t51 : Fin (k0_t51_loop v1).trips) (v228 : BitVec 32) (v257 : BitVec 32) (k0_t64 : Fin (k0_t64_loop v228 v257).trips) : Fin 5 → Nat :=
  let c1_573 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v569 : Index := Scalar.indexCast v226
  let c40 : Index := 40#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v570 : Index := Scalar.indexCast v327
  let c0_574 : Index := 0#32
  ![1, v569.toNat, 40, v570.toNat, 0]
def k0_off3327 (v1 : BitVec 32) (k0_t51 : Fin (k0_t51_loop v1).trips) (v228 : BitVec 32) (v257 : BitVec 32) (k0_t64 : Fin (k0_t64_loop v228 v257).trips) : Fin 5 → Nat :=
  let c1_576 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v575 : Index := Scalar.indexCast v226
  let c41 : Index := 41#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v576 : Index := Scalar.indexCast v327
  let c0_577 : Index := 0#32
  ![1, v575.toNat, 41, v576.toNat, 0]
def k0_off3328 (v1 : BitVec 32) (k0_t51 : Fin (k0_t51_loop v1).trips) (v228 : BitVec 32) (v257 : BitVec 32) (k0_t64 : Fin (k0_t64_loop v228 v257).trips) : Fin 5 → Nat :=
  let c1_579 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v581 : Index := Scalar.indexCast v226
  let c42 : Index := 42#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v582 : Index := Scalar.indexCast v327
  let c0_580 : Index := 0#32
  ![1, v581.toNat, 42, v582.toNat, 0]
def k0_off3329 (v1 : BitVec 32) (k0_t51 : Fin (k0_t51_loop v1).trips) (v228 : BitVec 32) (v257 : BitVec 32) (k0_t64 : Fin (k0_t64_loop v228 v257).trips) : Fin 5 → Nat :=
  let c1_582 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v587 : Index := Scalar.indexCast v226
  let c43 : Index := 43#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v588 : Index := Scalar.indexCast v327
  let c0_583 : Index := 0#32
  ![1, v587.toNat, 43, v588.toNat, 0]
def k0_off3330 (v1 : BitVec 32) (k0_t51 : Fin (k0_t51_loop v1).trips) (v228 : BitVec 32) (v257 : BitVec 32) (k0_t64 : Fin (k0_t64_loop v228 v257).trips) : Fin 5 → Nat :=
  let c1_585 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v593 : Index := Scalar.indexCast v226
  let c44 : Index := 44#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v594 : Index := Scalar.indexCast v327
  let c0_586 : Index := 0#32
  ![1, v593.toNat, 44, v594.toNat, 0]
def k0_off3331 (v1 : BitVec 32) (k0_t51 : Fin (k0_t51_loop v1).trips) (v228 : BitVec 32) (v257 : BitVec 32) (k0_t64 : Fin (k0_t64_loop v228 v257).trips) : Fin 5 → Nat :=
  let c1_588 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v599 : Index := Scalar.indexCast v226
  let c45 : Index := 45#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v600 : Index := Scalar.indexCast v327
  let c0_589 : Index := 0#32
  ![1, v599.toNat, 45, v600.toNat, 0]
def k0_off3332 (v1 : BitVec 32) (k0_t51 : Fin (k0_t51_loop v1).trips) (v228 : BitVec 32) (v257 : BitVec 32) (k0_t64 : Fin (k0_t64_loop v228 v257).trips) : Fin 5 → Nat :=
  let c1_591 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v605 : Index := Scalar.indexCast v226
  let c46 : Index := 46#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v606 : Index := Scalar.indexCast v327
  let c0_592 : Index := 0#32
  ![1, v605.toNat, 46, v606.toNat, 0]
def k0_off3333 (v1 : BitVec 32) (k0_t51 : Fin (k0_t51_loop v1).trips) (v228 : BitVec 32) (v257 : BitVec 32) (k0_t64 : Fin (k0_t64_loop v228 v257).trips) : Fin 5 → Nat :=
  let c1_594 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v611 : Index := Scalar.indexCast v226
  let c47 : Index := 47#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v612 : Index := Scalar.indexCast v327
  let c0_595 : Index := 0#32
  ![1, v611.toNat, 47, v612.toNat, 0]
def k0_off3334 (v1 : BitVec 32) (k0_t51 : Fin (k0_t51_loop v1).trips) (v228 : BitVec 32) (v257 : BitVec 32) (k0_t64 : Fin (k0_t64_loop v228 v257).trips) : Fin 5 → Nat :=
  let c1_597 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v617 : Index := Scalar.indexCast v226
  let c48 : Index := 48#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v618 : Index := Scalar.indexCast v327
  let c0_598 : Index := 0#32
  ![1, v617.toNat, 48, v618.toNat, 0]
def k0_off3335 (v1 : BitVec 32) (k0_t51 : Fin (k0_t51_loop v1).trips) (v228 : BitVec 32) (v257 : BitVec 32) (k0_t64 : Fin (k0_t64_loop v228 v257).trips) : Fin 5 → Nat :=
  let c1_600 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v623 : Index := Scalar.indexCast v226
  let c49 : Index := 49#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v624 : Index := Scalar.indexCast v327
  let c0_601 : Index := 0#32
  ![1, v623.toNat, 49, v624.toNat, 0]
def k0_off3336 (v1 : BitVec 32) (k0_t51 : Fin (k0_t51_loop v1).trips) (v228 : BitVec 32) (v257 : BitVec 32) (k0_t64 : Fin (k0_t64_loop v228 v257).trips) : Fin 5 → Nat :=
  let c1_603 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v629 : Index := Scalar.indexCast v226
  let c50 : Index := 50#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v630 : Index := Scalar.indexCast v327
  let c0_604 : Index := 0#32
  ![1, v629.toNat, 50, v630.toNat, 0]
def k0_off3337 (v1 : BitVec 32) (k0_t51 : Fin (k0_t51_loop v1).trips) (v228 : BitVec 32) (v257 : BitVec 32) (k0_t64 : Fin (k0_t64_loop v228 v257).trips) : Fin 5 → Nat :=
  let c1_606 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v635 : Index := Scalar.indexCast v226
  let c51 : Index := 51#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v636 : Index := Scalar.indexCast v327
  let c0_607 : Index := 0#32
  ![1, v635.toNat, 51, v636.toNat, 0]
def k0_off3338 (v1 : BitVec 32) (k0_t51 : Fin (k0_t51_loop v1).trips) (v228 : BitVec 32) (v257 : BitVec 32) (k0_t64 : Fin (k0_t64_loop v228 v257).trips) : Fin 5 → Nat :=
  let c1_609 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v641 : Index := Scalar.indexCast v226
  let c52 : Index := 52#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v642 : Index := Scalar.indexCast v327
  let c0_610 : Index := 0#32
  ![1, v641.toNat, 52, v642.toNat, 0]
def k0_off3339 (v1 : BitVec 32) (k0_t51 : Fin (k0_t51_loop v1).trips) (v228 : BitVec 32) (v257 : BitVec 32) (k0_t64 : Fin (k0_t64_loop v228 v257).trips) : Fin 5 → Nat :=
  let c1_612 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v647 : Index := Scalar.indexCast v226
  let c53 : Index := 53#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v648 : Index := Scalar.indexCast v327
  let c0_613 : Index := 0#32
  ![1, v647.toNat, 53, v648.toNat, 0]
def k0_off3340 (v1 : BitVec 32) (k0_t51 : Fin (k0_t51_loop v1).trips) (v228 : BitVec 32) (v257 : BitVec 32) (k0_t64 : Fin (k0_t64_loop v228 v257).trips) : Fin 5 → Nat :=
  let c1_615 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v653 : Index := Scalar.indexCast v226
  let c54 : Index := 54#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v654 : Index := Scalar.indexCast v327
  let c0_616 : Index := 0#32
  ![1, v653.toNat, 54, v654.toNat, 0]
def k0_off3341 (v1 : BitVec 32) (k0_t51 : Fin (k0_t51_loop v1).trips) (v228 : BitVec 32) (v257 : BitVec 32) (k0_t64 : Fin (k0_t64_loop v228 v257).trips) : Fin 5 → Nat :=
  let c1_618 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v659 : Index := Scalar.indexCast v226
  let c55 : Index := 55#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v660 : Index := Scalar.indexCast v327
  let c0_619 : Index := 0#32
  ![1, v659.toNat, 55, v660.toNat, 0]
def k0_off3342 (v1 : BitVec 32) (k0_t51 : Fin (k0_t51_loop v1).trips) (v228 : BitVec 32) (v257 : BitVec 32) (k0_t64 : Fin (k0_t64_loop v228 v257).trips) : Fin 5 → Nat :=
  let c1_621 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v665 : Index := Scalar.indexCast v226
  let c56 : Index := 56#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v666 : Index := Scalar.indexCast v327
  let c0_622 : Index := 0#32
  ![1, v665.toNat, 56, v666.toNat, 0]
def k0_off3343 (v1 : BitVec 32) (k0_t51 : Fin (k0_t51_loop v1).trips) (v228 : BitVec 32) (v257 : BitVec 32) (k0_t64 : Fin (k0_t64_loop v228 v257).trips) : Fin 5 → Nat :=
  let c1_624 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v671 : Index := Scalar.indexCast v226
  let c57 : Index := 57#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v672 : Index := Scalar.indexCast v327
  let c0_625 : Index := 0#32
  ![1, v671.toNat, 57, v672.toNat, 0]
def k0_off3344 (v1 : BitVec 32) (k0_t51 : Fin (k0_t51_loop v1).trips) (v228 : BitVec 32) (v257 : BitVec 32) (k0_t64 : Fin (k0_t64_loop v228 v257).trips) : Fin 5 → Nat :=
  let c1_627 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v677 : Index := Scalar.indexCast v226
  let c58 : Index := 58#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v678 : Index := Scalar.indexCast v327
  let c0_628 : Index := 0#32
  ![1, v677.toNat, 58, v678.toNat, 0]
def k0_off3345 (v1 : BitVec 32) (k0_t51 : Fin (k0_t51_loop v1).trips) (v228 : BitVec 32) (v257 : BitVec 32) (k0_t64 : Fin (k0_t64_loop v228 v257).trips) : Fin 5 → Nat :=
  let c1_630 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v683 : Index := Scalar.indexCast v226
  let c59 : Index := 59#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v684 : Index := Scalar.indexCast v327
  let c0_631 : Index := 0#32
  ![1, v683.toNat, 59, v684.toNat, 0]
def k0_off3346 (v1 : BitVec 32) (k0_t51 : Fin (k0_t51_loop v1).trips) (v228 : BitVec 32) (v257 : BitVec 32) (k0_t64 : Fin (k0_t64_loop v228 v257).trips) : Fin 5 → Nat :=
  let c1_633 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v689 : Index := Scalar.indexCast v226
  let c60 : Index := 60#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v690 : Index := Scalar.indexCast v327
  let c0_634 : Index := 0#32
  ![1, v689.toNat, 60, v690.toNat, 0]
def k0_off3347 (v1 : BitVec 32) (k0_t51 : Fin (k0_t51_loop v1).trips) (v228 : BitVec 32) (v257 : BitVec 32) (k0_t64 : Fin (k0_t64_loop v228 v257).trips) : Fin 5 → Nat :=
  let c1_636 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v695 : Index := Scalar.indexCast v226
  let c61 : Index := 61#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v696 : Index := Scalar.indexCast v327
  let c0_637 : Index := 0#32
  ![1, v695.toNat, 61, v696.toNat, 0]
def k0_off3348 (v1 : BitVec 32) (k0_t51 : Fin (k0_t51_loop v1).trips) (v228 : BitVec 32) (v257 : BitVec 32) (k0_t64 : Fin (k0_t64_loop v228 v257).trips) : Fin 5 → Nat :=
  let c1_639 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v701 : Index := Scalar.indexCast v226
  let c62 : Index := 62#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v702 : Index := Scalar.indexCast v327
  let c0_640 : Index := 0#32
  ![1, v701.toNat, 62, v702.toNat, 0]
def k0_off3349 (v1 : BitVec 32) (k0_t51 : Fin (k0_t51_loop v1).trips) (v228 : BitVec 32) (v257 : BitVec 32) (k0_t64 : Fin (k0_t64_loop v228 v257).trips) : Fin 5 → Nat :=
  let c1_642 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v707 : Index := Scalar.indexCast v226
  let c63 : Index := 63#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v708 : Index := Scalar.indexCast v327
  let c0_643 : Index := 0#32
  ![1, v707.toNat, 63, v708.toNat, 0]
def k0_off3350 (v1 : BitVec 32) (k0_t51 : Fin (k0_t51_loop v1).trips) (v228 : BitVec 32) (v257 : BitVec 32) (k0_t64 : Fin (k0_t64_loop v228 v257).trips) : Fin 5 → Nat :=
  let c1_645 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v713 : Index := Scalar.indexCast v226
  let c64 : Index := 64#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v714 : Index := Scalar.indexCast v327
  let c0_646 : Index := 0#32
  ![1, v713.toNat, 64, v714.toNat, 0]
def k0_off3351 (v1 : BitVec 32) (k0_t51 : Fin (k0_t51_loop v1).trips) (v228 : BitVec 32) (v257 : BitVec 32) (k0_t64 : Fin (k0_t64_loop v228 v257).trips) : Fin 5 → Nat :=
  let c1_648 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v719 : Index := Scalar.indexCast v226
  let c65 : Index := 65#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v720 : Index := Scalar.indexCast v327
  let c0_649 : Index := 0#32
  ![1, v719.toNat, 65, v720.toNat, 0]
def k0_off3352 (v1 : BitVec 32) (k0_t51 : Fin (k0_t51_loop v1).trips) (v228 : BitVec 32) (v257 : BitVec 32) (k0_t64 : Fin (k0_t64_loop v228 v257).trips) : Fin 5 → Nat :=
  let c1_651 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v725 : Index := Scalar.indexCast v226
  let c66 : Index := 66#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v726 : Index := Scalar.indexCast v327
  let c0_652 : Index := 0#32
  ![1, v725.toNat, 66, v726.toNat, 0]
def k0_off3353 (v1 : BitVec 32) (k0_t51 : Fin (k0_t51_loop v1).trips) (v228 : BitVec 32) (v257 : BitVec 32) (k0_t64 : Fin (k0_t64_loop v228 v257).trips) : Fin 5 → Nat :=
  let c1_654 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v731 : Index := Scalar.indexCast v226
  let c67 : Index := 67#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v732 : Index := Scalar.indexCast v327
  let c0_655 : Index := 0#32
  ![1, v731.toNat, 67, v732.toNat, 0]
def k0_off3354 (v1 : BitVec 32) (k0_t51 : Fin (k0_t51_loop v1).trips) (v228 : BitVec 32) (v257 : BitVec 32) (k0_t64 : Fin (k0_t64_loop v228 v257).trips) : Fin 5 → Nat :=
  let c1_657 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v737 : Index := Scalar.indexCast v226
  let c68 : Index := 68#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v738 : Index := Scalar.indexCast v327
  let c0_658 : Index := 0#32
  ![1, v737.toNat, 68, v738.toNat, 0]
def k0_off3355 (v1 : BitVec 32) (k0_t51 : Fin (k0_t51_loop v1).trips) (v228 : BitVec 32) (v257 : BitVec 32) (k0_t64 : Fin (k0_t64_loop v228 v257).trips) : Fin 5 → Nat :=
  let c1_660 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v743 : Index := Scalar.indexCast v226
  let c69 : Index := 69#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v744 : Index := Scalar.indexCast v327
  let c0_661 : Index := 0#32
  ![1, v743.toNat, 69, v744.toNat, 0]
def k0_off3356 (v1 : BitVec 32) (k0_t51 : Fin (k0_t51_loop v1).trips) (v228 : BitVec 32) (v257 : BitVec 32) (k0_t64 : Fin (k0_t64_loop v228 v257).trips) : Fin 5 → Nat :=
  let c1_663 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v749 : Index := Scalar.indexCast v226
  let c70 : Index := 70#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v750 : Index := Scalar.indexCast v327
  let c0_664 : Index := 0#32
  ![1, v749.toNat, 70, v750.toNat, 0]
def k0_off3357 (v1 : BitVec 32) (k0_t51 : Fin (k0_t51_loop v1).trips) (v228 : BitVec 32) (v257 : BitVec 32) (k0_t64 : Fin (k0_t64_loop v228 v257).trips) : Fin 5 → Nat :=
  let c1_666 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v755 : Index := Scalar.indexCast v226
  let c71 : Index := 71#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v756 : Index := Scalar.indexCast v327
  let c0_667 : Index := 0#32
  ![1, v755.toNat, 71, v756.toNat, 0]
def k0_off3358 (v1 : BitVec 32) (k0_t51 : Fin (k0_t51_loop v1).trips) (v228 : BitVec 32) (v257 : BitVec 32) (k0_t64 : Fin (k0_t64_loop v228 v257).trips) : Fin 5 → Nat :=
  let c1_669 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v761 : Index := Scalar.indexCast v226
  let c72 : Index := 72#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v762 : Index := Scalar.indexCast v327
  let c0_670 : Index := 0#32
  ![1, v761.toNat, 72, v762.toNat, 0]
def k0_off3359 (v1 : BitVec 32) (k0_t51 : Fin (k0_t51_loop v1).trips) (v228 : BitVec 32) (v257 : BitVec 32) (k0_t64 : Fin (k0_t64_loop v228 v257).trips) : Fin 5 → Nat :=
  let c1_672 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v767 : Index := Scalar.indexCast v226
  let c73 : Index := 73#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v768 : Index := Scalar.indexCast v327
  let c0_673 : Index := 0#32
  ![1, v767.toNat, 73, v768.toNat, 0]
def k0_off3360 (v1 : BitVec 32) (k0_t51 : Fin (k0_t51_loop v1).trips) (v228 : BitVec 32) (v257 : BitVec 32) (k0_t64 : Fin (k0_t64_loop v228 v257).trips) : Fin 5 → Nat :=
  let c1_675 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v773 : Index := Scalar.indexCast v226
  let c74 : Index := 74#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v774 : Index := Scalar.indexCast v327
  let c0_676 : Index := 0#32
  ![1, v773.toNat, 74, v774.toNat, 0]
def k0_off3361 (v1 : BitVec 32) (k0_t51 : Fin (k0_t51_loop v1).trips) (v228 : BitVec 32) (v257 : BitVec 32) (k0_t64 : Fin (k0_t64_loop v228 v257).trips) : Fin 5 → Nat :=
  let c1_678 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v779 : Index := Scalar.indexCast v226
  let c75 : Index := 75#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v780 : Index := Scalar.indexCast v327
  let c0_679 : Index := 0#32
  ![1, v779.toNat, 75, v780.toNat, 0]
def k0_off3362 (v1 : BitVec 32) (k0_t51 : Fin (k0_t51_loop v1).trips) (v228 : BitVec 32) (v257 : BitVec 32) (k0_t64 : Fin (k0_t64_loop v228 v257).trips) : Fin 5 → Nat :=
  let c1_681 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v785 : Index := Scalar.indexCast v226
  let c76 : Index := 76#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v786 : Index := Scalar.indexCast v327
  let c0_682 : Index := 0#32
  ![1, v785.toNat, 76, v786.toNat, 0]
def k0_off3363 (v1 : BitVec 32) (k0_t51 : Fin (k0_t51_loop v1).trips) (v228 : BitVec 32) (v257 : BitVec 32) (k0_t64 : Fin (k0_t64_loop v228 v257).trips) : Fin 5 → Nat :=
  let c1_684 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v791 : Index := Scalar.indexCast v226
  let c77 : Index := 77#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v792 : Index := Scalar.indexCast v327
  let c0_685 : Index := 0#32
  ![1, v791.toNat, 77, v792.toNat, 0]
def k0_off3364 (v1 : BitVec 32) (k0_t51 : Fin (k0_t51_loop v1).trips) (v228 : BitVec 32) (v257 : BitVec 32) (k0_t64 : Fin (k0_t64_loop v228 v257).trips) : Fin 5 → Nat :=
  let c1_687 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v797 : Index := Scalar.indexCast v226
  let c78 : Index := 78#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v798 : Index := Scalar.indexCast v327
  let c0_688 : Index := 0#32
  ![1, v797.toNat, 78, v798.toNat, 0]
def k0_off3365 (v1 : BitVec 32) (k0_t51 : Fin (k0_t51_loop v1).trips) (v228 : BitVec 32) (v257 : BitVec 32) (k0_t64 : Fin (k0_t64_loop v228 v257).trips) : Fin 5 → Nat :=
  let c1_690 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v803 : Index := Scalar.indexCast v226
  let c79 : Index := 79#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v804 : Index := Scalar.indexCast v327
  let c0_691 : Index := 0#32
  ![1, v803.toNat, 79, v804.toNat, 0]
def k0_off3366 (v1 : BitVec 32) (k0_t51 : Fin (k0_t51_loop v1).trips) (v228 : BitVec 32) (v257 : BitVec 32) (k0_t64 : Fin (k0_t64_loop v228 v257).trips) : Fin 5 → Nat :=
  let c1_693 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v809 : Index := Scalar.indexCast v226
  let c80 : Index := 80#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v810 : Index := Scalar.indexCast v327
  let c0_694 : Index := 0#32
  ![1, v809.toNat, 80, v810.toNat, 0]
def k0_off3367 (v1 : BitVec 32) (k0_t51 : Fin (k0_t51_loop v1).trips) (v228 : BitVec 32) (v257 : BitVec 32) (k0_t64 : Fin (k0_t64_loop v228 v257).trips) : Fin 5 → Nat :=
  let c1_696 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v815 : Index := Scalar.indexCast v226
  let c81 : Index := 81#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v816 : Index := Scalar.indexCast v327
  let c0_697 : Index := 0#32
  ![1, v815.toNat, 81, v816.toNat, 0]
def k0_off3368 (v1 : BitVec 32) (k0_t51 : Fin (k0_t51_loop v1).trips) (v228 : BitVec 32) (v257 : BitVec 32) (k0_t64 : Fin (k0_t64_loop v228 v257).trips) : Fin 5 → Nat :=
  let c1_699 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v821 : Index := Scalar.indexCast v226
  let c82 : Index := 82#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v822 : Index := Scalar.indexCast v327
  let c0_700 : Index := 0#32
  ![1, v821.toNat, 82, v822.toNat, 0]
def k0_off3369 (v1 : BitVec 32) (k0_t51 : Fin (k0_t51_loop v1).trips) (v228 : BitVec 32) (v257 : BitVec 32) (k0_t64 : Fin (k0_t64_loop v228 v257).trips) : Fin 5 → Nat :=
  let c1_702 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v827 : Index := Scalar.indexCast v226
  let c83 : Index := 83#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v828 : Index := Scalar.indexCast v327
  let c0_703 : Index := 0#32
  ![1, v827.toNat, 83, v828.toNat, 0]
def k0_off3370 (v1 : BitVec 32) (k0_t51 : Fin (k0_t51_loop v1).trips) (v228 : BitVec 32) (v257 : BitVec 32) (k0_t64 : Fin (k0_t64_loop v228 v257).trips) : Fin 5 → Nat :=
  let c1_705 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v833 : Index := Scalar.indexCast v226
  let c84 : Index := 84#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v834 : Index := Scalar.indexCast v327
  let c0_706 : Index := 0#32
  ![1, v833.toNat, 84, v834.toNat, 0]
def k0_off3371 (v1 : BitVec 32) (k0_t51 : Fin (k0_t51_loop v1).trips) (v228 : BitVec 32) (v257 : BitVec 32) (k0_t64 : Fin (k0_t64_loop v228 v257).trips) : Fin 5 → Nat :=
  let c1_708 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v839 : Index := Scalar.indexCast v226
  let c85 : Index := 85#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v840 : Index := Scalar.indexCast v327
  let c0_709 : Index := 0#32
  ![1, v839.toNat, 85, v840.toNat, 0]
def k0_off3372 (v1 : BitVec 32) (k0_t51 : Fin (k0_t51_loop v1).trips) (v228 : BitVec 32) (v257 : BitVec 32) (k0_t64 : Fin (k0_t64_loop v228 v257).trips) : Fin 5 → Nat :=
  let c1_711 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v845 : Index := Scalar.indexCast v226
  let c86 : Index := 86#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v846 : Index := Scalar.indexCast v327
  let c0_712 : Index := 0#32
  ![1, v845.toNat, 86, v846.toNat, 0]
def k0_off3373 (v1 : BitVec 32) (k0_t51 : Fin (k0_t51_loop v1).trips) (v228 : BitVec 32) (v257 : BitVec 32) (k0_t64 : Fin (k0_t64_loop v228 v257).trips) : Fin 5 → Nat :=
  let c1_714 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v851 : Index := Scalar.indexCast v226
  let c87 : Index := 87#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v852 : Index := Scalar.indexCast v327
  let c0_715 : Index := 0#32
  ![1, v851.toNat, 87, v852.toNat, 0]
def k0_off3374 (v1 : BitVec 32) (k0_t51 : Fin (k0_t51_loop v1).trips) (v228 : BitVec 32) (v257 : BitVec 32) (k0_t64 : Fin (k0_t64_loop v228 v257).trips) : Fin 5 → Nat :=
  let c1_717 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v857 : Index := Scalar.indexCast v226
  let c88 : Index := 88#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v858 : Index := Scalar.indexCast v327
  let c0_718 : Index := 0#32
  ![1, v857.toNat, 88, v858.toNat, 0]
def k0_off3375 (v1 : BitVec 32) (k0_t51 : Fin (k0_t51_loop v1).trips) (v228 : BitVec 32) (v257 : BitVec 32) (k0_t64 : Fin (k0_t64_loop v228 v257).trips) : Fin 5 → Nat :=
  let c1_720 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v863 : Index := Scalar.indexCast v226
  let c89 : Index := 89#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v864 : Index := Scalar.indexCast v327
  let c0_721 : Index := 0#32
  ![1, v863.toNat, 89, v864.toNat, 0]
def k0_off3376 (v1 : BitVec 32) (k0_t51 : Fin (k0_t51_loop v1).trips) (v228 : BitVec 32) (v257 : BitVec 32) (k0_t64 : Fin (k0_t64_loop v228 v257).trips) : Fin 5 → Nat :=
  let c1_723 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v869 : Index := Scalar.indexCast v226
  let c90 : Index := 90#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v870 : Index := Scalar.indexCast v327
  let c0_724 : Index := 0#32
  ![1, v869.toNat, 90, v870.toNat, 0]
def k0_off3377 (v1 : BitVec 32) (k0_t51 : Fin (k0_t51_loop v1).trips) (v228 : BitVec 32) (v257 : BitVec 32) (k0_t64 : Fin (k0_t64_loop v228 v257).trips) : Fin 5 → Nat :=
  let c1_726 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v875 : Index := Scalar.indexCast v226
  let c91 : Index := 91#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v876 : Index := Scalar.indexCast v327
  let c0_727 : Index := 0#32
  ![1, v875.toNat, 91, v876.toNat, 0]
def k0_off3378 (v1 : BitVec 32) (k0_t51 : Fin (k0_t51_loop v1).trips) (v228 : BitVec 32) (v257 : BitVec 32) (k0_t64 : Fin (k0_t64_loop v228 v257).trips) : Fin 5 → Nat :=
  let c1_729 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v881 : Index := Scalar.indexCast v226
  let c92 : Index := 92#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v882 : Index := Scalar.indexCast v327
  let c0_730 : Index := 0#32
  ![1, v881.toNat, 92, v882.toNat, 0]
def k0_off3379 (v1 : BitVec 32) (k0_t51 : Fin (k0_t51_loop v1).trips) (v228 : BitVec 32) (v257 : BitVec 32) (k0_t64 : Fin (k0_t64_loop v228 v257).trips) : Fin 5 → Nat :=
  let c1_732 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v887 : Index := Scalar.indexCast v226
  let c93 : Index := 93#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v888 : Index := Scalar.indexCast v327
  let c0_733 : Index := 0#32
  ![1, v887.toNat, 93, v888.toNat, 0]
def k0_off3380 (v1 : BitVec 32) (k0_t51 : Fin (k0_t51_loop v1).trips) (v228 : BitVec 32) (v257 : BitVec 32) (k0_t64 : Fin (k0_t64_loop v228 v257).trips) : Fin 5 → Nat :=
  let c1_735 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v893 : Index := Scalar.indexCast v226
  let c94 : Index := 94#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v894 : Index := Scalar.indexCast v327
  let c0_736 : Index := 0#32
  ![1, v893.toNat, 94, v894.toNat, 0]
def k0_off3381 (v1 : BitVec 32) (k0_t51 : Fin (k0_t51_loop v1).trips) (v228 : BitVec 32) (v257 : BitVec 32) (k0_t64 : Fin (k0_t64_loop v228 v257).trips) : Fin 5 → Nat :=
  let c1_738 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v899 : Index := Scalar.indexCast v226
  let c95 : Index := 95#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v900 : Index := Scalar.indexCast v327
  let c0_739 : Index := 0#32
  ![1, v899.toNat, 95, v900.toNat, 0]
def k0_off3382 (v1 : BitVec 32) (k0_t51 : Fin (k0_t51_loop v1).trips) (v228 : BitVec 32) (v257 : BitVec 32) (k0_t64 : Fin (k0_t64_loop v228 v257).trips) : Fin 5 → Nat :=
  let c1_741 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v905 : Index := Scalar.indexCast v226
  let c96 : Index := 96#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v906 : Index := Scalar.indexCast v327
  let c0_742 : Index := 0#32
  ![1, v905.toNat, 96, v906.toNat, 0]
def k0_off3383 (v1 : BitVec 32) (k0_t51 : Fin (k0_t51_loop v1).trips) (v228 : BitVec 32) (v257 : BitVec 32) (k0_t64 : Fin (k0_t64_loop v228 v257).trips) : Fin 5 → Nat :=
  let c1_744 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v911 : Index := Scalar.indexCast v226
  let c97 : Index := 97#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v912 : Index := Scalar.indexCast v327
  let c0_745 : Index := 0#32
  ![1, v911.toNat, 97, v912.toNat, 0]
def k0_off3384 (v1 : BitVec 32) (k0_t51 : Fin (k0_t51_loop v1).trips) (v228 : BitVec 32) (v257 : BitVec 32) (k0_t64 : Fin (k0_t64_loop v228 v257).trips) : Fin 5 → Nat :=
  let c1_747 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v917 : Index := Scalar.indexCast v226
  let c98 : Index := 98#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v918 : Index := Scalar.indexCast v327
  let c0_748 : Index := 0#32
  ![1, v917.toNat, 98, v918.toNat, 0]
def k0_off3385 (v1 : BitVec 32) (k0_t51 : Fin (k0_t51_loop v1).trips) (v228 : BitVec 32) (v257 : BitVec 32) (k0_t64 : Fin (k0_t64_loop v228 v257).trips) : Fin 5 → Nat :=
  let c1_750 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v923 : Index := Scalar.indexCast v226
  let c99 : Index := 99#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v924 : Index := Scalar.indexCast v327
  let c0_751 : Index := 0#32
  ![1, v923.toNat, 99, v924.toNat, 0]
def k0_off3386 (v1 : BitVec 32) (k0_t51 : Fin (k0_t51_loop v1).trips) (v228 : BitVec 32) (v257 : BitVec 32) (k0_t64 : Fin (k0_t64_loop v228 v257).trips) : Fin 5 → Nat :=
  let c1_753 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v929 : Index := Scalar.indexCast v226
  let c100 : Index := 100#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v930 : Index := Scalar.indexCast v327
  let c0_754 : Index := 0#32
  ![1, v929.toNat, 100, v930.toNat, 0]
def k0_off3387 (v1 : BitVec 32) (k0_t51 : Fin (k0_t51_loop v1).trips) (v228 : BitVec 32) (v257 : BitVec 32) (k0_t64 : Fin (k0_t64_loop v228 v257).trips) : Fin 5 → Nat :=
  let c1_756 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v935 : Index := Scalar.indexCast v226
  let c101 : Index := 101#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v936 : Index := Scalar.indexCast v327
  let c0_757 : Index := 0#32
  ![1, v935.toNat, 101, v936.toNat, 0]
def k0_off3388 (v1 : BitVec 32) (k0_t51 : Fin (k0_t51_loop v1).trips) (v228 : BitVec 32) (v257 : BitVec 32) (k0_t64 : Fin (k0_t64_loop v228 v257).trips) : Fin 5 → Nat :=
  let c1_759 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v941 : Index := Scalar.indexCast v226
  let c102 : Index := 102#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v942 : Index := Scalar.indexCast v327
  let c0_760 : Index := 0#32
  ![1, v941.toNat, 102, v942.toNat, 0]
def k0_off3389 (v1 : BitVec 32) (k0_t51 : Fin (k0_t51_loop v1).trips) (v228 : BitVec 32) (v257 : BitVec 32) (k0_t64 : Fin (k0_t64_loop v228 v257).trips) : Fin 5 → Nat :=
  let c1_762 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v947 : Index := Scalar.indexCast v226
  let c103 : Index := 103#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v948 : Index := Scalar.indexCast v327
  let c0_763 : Index := 0#32
  ![1, v947.toNat, 103, v948.toNat, 0]
def k0_off3390 (v1 : BitVec 32) (k0_t51 : Fin (k0_t51_loop v1).trips) (v228 : BitVec 32) (v257 : BitVec 32) (k0_t64 : Fin (k0_t64_loop v228 v257).trips) : Fin 5 → Nat :=
  let c1_765 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v953 : Index := Scalar.indexCast v226
  let c104 : Index := 104#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v954 : Index := Scalar.indexCast v327
  let c0_766 : Index := 0#32
  ![1, v953.toNat, 104, v954.toNat, 0]
def k0_off3391 (v1 : BitVec 32) (k0_t51 : Fin (k0_t51_loop v1).trips) (v228 : BitVec 32) (v257 : BitVec 32) (k0_t64 : Fin (k0_t64_loop v228 v257).trips) : Fin 5 → Nat :=
  let c1_768 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v959 : Index := Scalar.indexCast v226
  let c105 : Index := 105#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v960 : Index := Scalar.indexCast v327
  let c0_769 : Index := 0#32
  ![1, v959.toNat, 105, v960.toNat, 0]
def k0_off3392 (v1 : BitVec 32) (k0_t51 : Fin (k0_t51_loop v1).trips) (v228 : BitVec 32) (v257 : BitVec 32) (k0_t64 : Fin (k0_t64_loop v228 v257).trips) : Fin 5 → Nat :=
  let c1_771 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v965 : Index := Scalar.indexCast v226
  let c106 : Index := 106#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v966 : Index := Scalar.indexCast v327
  let c0_772 : Index := 0#32
  ![1, v965.toNat, 106, v966.toNat, 0]
def k0_off3393 (v1 : BitVec 32) (k0_t51 : Fin (k0_t51_loop v1).trips) (v228 : BitVec 32) (v257 : BitVec 32) (k0_t64 : Fin (k0_t64_loop v228 v257).trips) : Fin 5 → Nat :=
  let c1_774 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v971 : Index := Scalar.indexCast v226
  let c107 : Index := 107#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c1_i32_440 : BitVec 32 := 1#32
  let arg19 : BitVec 32 := Scf.iv v265 c1_i32_440 k0_t64
  let c16_i32_452 : BitVec 32 := 16#32
  let v326 : BitVec 32 := Scalar.muli arg19 c16_i32_452
  let v327 : BitVec 32 := v326
  let v972 : Index := Scalar.indexCast v327
  let c0_775 : Index := 0#32
  ![1, v971.toNat, 107, v972.toNat, 0]
@[reducible] def k0_t65_loop (v228 : BitVec 32) (v257 : BitVec 32) : Scf.Loop 32 :=
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let v310 : BitVec 32 := Scalar.addi v265 v309
  let c1_i32_441 : BitVec 32 := 1#32
  ⟨v313, v310, c1_i32_441⟩
def k0_mult27 (v228 : BitVec 32) (v257 : BitVec 32) (k0_t65 : Fin (k0_t65_loop v228 v257).trips) : BitVec 32 :=
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  v326
def k0_off3394 (v1 : BitVec 32) (k0_t51 : Fin (k0_t51_loop v1).trips) (v228 : BitVec 32) (v257 : BitVec 32) (k0_t65 : Fin (k0_t65_loop v228 v257).trips) : Fin 5 → Nat :=
  let c1 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v329 : Index := Scalar.indexCast v226
  let c0 : Index := 0#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v330 : Index := Scalar.indexCast v327
  let c0_453 : Index := 0#32
  ![1, v329.toNat, 0, v330.toNat, 0]
def k0_off3395 (v1 : BitVec 32) (k0_t51 : Fin (k0_t51_loop v1).trips) (v228 : BitVec 32) (v257 : BitVec 32) (k0_t65 : Fin (k0_t65_loop v228 v257).trips) : Fin 5 → Nat :=
  let c1_455 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v335 : Index := Scalar.indexCast v226
  let c1_456 : Index := 1#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v336 : Index := Scalar.indexCast v327
  let c0_457 : Index := 0#32
  ![1, v335.toNat, 1, v336.toNat, 0]
def k0_off3396 (v1 : BitVec 32) (k0_t51 : Fin (k0_t51_loop v1).trips) (v228 : BitVec 32) (v257 : BitVec 32) (k0_t65 : Fin (k0_t65_loop v228 v257).trips) : Fin 5 → Nat :=
  let c1_459 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v341 : Index := Scalar.indexCast v226
  let c2 : Index := 2#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v342 : Index := Scalar.indexCast v327
  let c0_460 : Index := 0#32
  ![1, v341.toNat, 2, v342.toNat, 0]
def k0_off3397 (v1 : BitVec 32) (k0_t51 : Fin (k0_t51_loop v1).trips) (v228 : BitVec 32) (v257 : BitVec 32) (k0_t65 : Fin (k0_t65_loop v228 v257).trips) : Fin 5 → Nat :=
  let c1_462 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v347 : Index := Scalar.indexCast v226
  let c3 : Index := 3#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v348 : Index := Scalar.indexCast v327
  let c0_463 : Index := 0#32
  ![1, v347.toNat, 3, v348.toNat, 0]
def k0_off3398 (v1 : BitVec 32) (k0_t51 : Fin (k0_t51_loop v1).trips) (v228 : BitVec 32) (v257 : BitVec 32) (k0_t65 : Fin (k0_t65_loop v228 v257).trips) : Fin 5 → Nat :=
  let c1_465 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v353 : Index := Scalar.indexCast v226
  let c4 : Index := 4#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v354 : Index := Scalar.indexCast v327
  let c0_466 : Index := 0#32
  ![1, v353.toNat, 4, v354.toNat, 0]
def k0_off3399 (v1 : BitVec 32) (k0_t51 : Fin (k0_t51_loop v1).trips) (v228 : BitVec 32) (v257 : BitVec 32) (k0_t65 : Fin (k0_t65_loop v228 v257).trips) : Fin 5 → Nat :=
  let c1_468 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v359 : Index := Scalar.indexCast v226
  let c5 : Index := 5#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v360 : Index := Scalar.indexCast v327
  let c0_469 : Index := 0#32
  ![1, v359.toNat, 5, v360.toNat, 0]
def k0_off3400 (v1 : BitVec 32) (k0_t51 : Fin (k0_t51_loop v1).trips) (v228 : BitVec 32) (v257 : BitVec 32) (k0_t65 : Fin (k0_t65_loop v228 v257).trips) : Fin 5 → Nat :=
  let c1_471 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v365 : Index := Scalar.indexCast v226
  let c6 : Index := 6#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v366 : Index := Scalar.indexCast v327
  let c0_472 : Index := 0#32
  ![1, v365.toNat, 6, v366.toNat, 0]
def k0_off3401 (v1 : BitVec 32) (k0_t51 : Fin (k0_t51_loop v1).trips) (v228 : BitVec 32) (v257 : BitVec 32) (k0_t65 : Fin (k0_t65_loop v228 v257).trips) : Fin 5 → Nat :=
  let c1_474 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v371 : Index := Scalar.indexCast v226
  let c7 : Index := 7#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v372 : Index := Scalar.indexCast v327
  let c0_475 : Index := 0#32
  ![1, v371.toNat, 7, v372.toNat, 0]
def k0_off3402 (v1 : BitVec 32) (k0_t51 : Fin (k0_t51_loop v1).trips) (v228 : BitVec 32) (v257 : BitVec 32) (k0_t65 : Fin (k0_t65_loop v228 v257).trips) : Fin 5 → Nat :=
  let c1_477 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v377 : Index := Scalar.indexCast v226
  let c8 : Index := 8#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v378 : Index := Scalar.indexCast v327
  let c0_478 : Index := 0#32
  ![1, v377.toNat, 8, v378.toNat, 0]
def k0_off3403 (v1 : BitVec 32) (k0_t51 : Fin (k0_t51_loop v1).trips) (v228 : BitVec 32) (v257 : BitVec 32) (k0_t65 : Fin (k0_t65_loop v228 v257).trips) : Fin 5 → Nat :=
  let c1_480 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v383 : Index := Scalar.indexCast v226
  let c9 : Index := 9#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v384 : Index := Scalar.indexCast v327
  let c0_481 : Index := 0#32
  ![1, v383.toNat, 9, v384.toNat, 0]
def k0_off3404 (v1 : BitVec 32) (k0_t51 : Fin (k0_t51_loop v1).trips) (v228 : BitVec 32) (v257 : BitVec 32) (k0_t65 : Fin (k0_t65_loop v228 v257).trips) : Fin 5 → Nat :=
  let c1_483 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v389 : Index := Scalar.indexCast v226
  let c10 : Index := 10#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v390 : Index := Scalar.indexCast v327
  let c0_484 : Index := 0#32
  ![1, v389.toNat, 10, v390.toNat, 0]
def k0_off3405 (v1 : BitVec 32) (k0_t51 : Fin (k0_t51_loop v1).trips) (v228 : BitVec 32) (v257 : BitVec 32) (k0_t65 : Fin (k0_t65_loop v228 v257).trips) : Fin 5 → Nat :=
  let c1_486 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v395 : Index := Scalar.indexCast v226
  let c11 : Index := 11#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v396 : Index := Scalar.indexCast v327
  let c0_487 : Index := 0#32
  ![1, v395.toNat, 11, v396.toNat, 0]
def k0_off3406 (v1 : BitVec 32) (k0_t51 : Fin (k0_t51_loop v1).trips) (v228 : BitVec 32) (v257 : BitVec 32) (k0_t65 : Fin (k0_t65_loop v228 v257).trips) : Fin 5 → Nat :=
  let c1_489 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v401 : Index := Scalar.indexCast v226
  let c12 : Index := 12#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v402 : Index := Scalar.indexCast v327
  let c0_490 : Index := 0#32
  ![1, v401.toNat, 12, v402.toNat, 0]
def k0_off3407 (v1 : BitVec 32) (k0_t51 : Fin (k0_t51_loop v1).trips) (v228 : BitVec 32) (v257 : BitVec 32) (k0_t65 : Fin (k0_t65_loop v228 v257).trips) : Fin 5 → Nat :=
  let c1_492 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v407 : Index := Scalar.indexCast v226
  let c13 : Index := 13#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v408 : Index := Scalar.indexCast v327
  let c0_493 : Index := 0#32
  ![1, v407.toNat, 13, v408.toNat, 0]
def k0_off3408 (v1 : BitVec 32) (k0_t51 : Fin (k0_t51_loop v1).trips) (v228 : BitVec 32) (v257 : BitVec 32) (k0_t65 : Fin (k0_t65_loop v228 v257).trips) : Fin 5 → Nat :=
  let c1_495 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v413 : Index := Scalar.indexCast v226
  let c14 : Index := 14#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v414 : Index := Scalar.indexCast v327
  let c0_496 : Index := 0#32
  ![1, v413.toNat, 14, v414.toNat, 0]
def k0_off3409 (v1 : BitVec 32) (k0_t51 : Fin (k0_t51_loop v1).trips) (v228 : BitVec 32) (v257 : BitVec 32) (k0_t65 : Fin (k0_t65_loop v228 v257).trips) : Fin 5 → Nat :=
  let c1_498 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v419 : Index := Scalar.indexCast v226
  let c15 : Index := 15#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v420 : Index := Scalar.indexCast v327
  let c0_499 : Index := 0#32
  ![1, v419.toNat, 15, v420.toNat, 0]
def k0_off3410 (v1 : BitVec 32) (k0_t51 : Fin (k0_t51_loop v1).trips) (v228 : BitVec 32) (v257 : BitVec 32) (k0_t65 : Fin (k0_t65_loop v228 v257).trips) : Fin 5 → Nat :=
  let c1_501 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v425 : Index := Scalar.indexCast v226
  let c16 : Index := 16#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v426 : Index := Scalar.indexCast v327
  let c0_502 : Index := 0#32
  ![1, v425.toNat, 16, v426.toNat, 0]
def k0_off3411 (v1 : BitVec 32) (k0_t51 : Fin (k0_t51_loop v1).trips) (v228 : BitVec 32) (v257 : BitVec 32) (k0_t65 : Fin (k0_t65_loop v228 v257).trips) : Fin 5 → Nat :=
  let c1_504 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v431 : Index := Scalar.indexCast v226
  let c17 : Index := 17#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v432 : Index := Scalar.indexCast v327
  let c0_505 : Index := 0#32
  ![1, v431.toNat, 17, v432.toNat, 0]
def k0_off3412 (v1 : BitVec 32) (k0_t51 : Fin (k0_t51_loop v1).trips) (v228 : BitVec 32) (v257 : BitVec 32) (k0_t65 : Fin (k0_t65_loop v228 v257).trips) : Fin 5 → Nat :=
  let c1_507 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v437 : Index := Scalar.indexCast v226
  let c18 : Index := 18#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v438 : Index := Scalar.indexCast v327
  let c0_508 : Index := 0#32
  ![1, v437.toNat, 18, v438.toNat, 0]
def k0_off3413 (v1 : BitVec 32) (k0_t51 : Fin (k0_t51_loop v1).trips) (v228 : BitVec 32) (v257 : BitVec 32) (k0_t65 : Fin (k0_t65_loop v228 v257).trips) : Fin 5 → Nat :=
  let c1_510 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v443 : Index := Scalar.indexCast v226
  let c19 : Index := 19#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v444 : Index := Scalar.indexCast v327
  let c0_511 : Index := 0#32
  ![1, v443.toNat, 19, v444.toNat, 0]
def k0_off3414 (v1 : BitVec 32) (k0_t51 : Fin (k0_t51_loop v1).trips) (v228 : BitVec 32) (v257 : BitVec 32) (k0_t65 : Fin (k0_t65_loop v228 v257).trips) : Fin 5 → Nat :=
  let c1_513 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v449 : Index := Scalar.indexCast v226
  let c20 : Index := 20#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v450 : Index := Scalar.indexCast v327
  let c0_514 : Index := 0#32
  ![1, v449.toNat, 20, v450.toNat, 0]
def k0_off3415 (v1 : BitVec 32) (k0_t51 : Fin (k0_t51_loop v1).trips) (v228 : BitVec 32) (v257 : BitVec 32) (k0_t65 : Fin (k0_t65_loop v228 v257).trips) : Fin 5 → Nat :=
  let c1_516 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v455 : Index := Scalar.indexCast v226
  let c21 : Index := 21#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v456 : Index := Scalar.indexCast v327
  let c0_517 : Index := 0#32
  ![1, v455.toNat, 21, v456.toNat, 0]
def k0_off3416 (v1 : BitVec 32) (k0_t51 : Fin (k0_t51_loop v1).trips) (v228 : BitVec 32) (v257 : BitVec 32) (k0_t65 : Fin (k0_t65_loop v228 v257).trips) : Fin 5 → Nat :=
  let c1_519 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v461 : Index := Scalar.indexCast v226
  let c22 : Index := 22#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v462 : Index := Scalar.indexCast v327
  let c0_520 : Index := 0#32
  ![1, v461.toNat, 22, v462.toNat, 0]
def k0_off3417 (v1 : BitVec 32) (k0_t51 : Fin (k0_t51_loop v1).trips) (v228 : BitVec 32) (v257 : BitVec 32) (k0_t65 : Fin (k0_t65_loop v228 v257).trips) : Fin 5 → Nat :=
  let c1_522 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v467 : Index := Scalar.indexCast v226
  let c23 : Index := 23#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v468 : Index := Scalar.indexCast v327
  let c0_523 : Index := 0#32
  ![1, v467.toNat, 23, v468.toNat, 0]
def k0_off3418 (v1 : BitVec 32) (k0_t51 : Fin (k0_t51_loop v1).trips) (v228 : BitVec 32) (v257 : BitVec 32) (k0_t65 : Fin (k0_t65_loop v228 v257).trips) : Fin 5 → Nat :=
  let c1_525 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v473 : Index := Scalar.indexCast v226
  let c24 : Index := 24#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v474 : Index := Scalar.indexCast v327
  let c0_526 : Index := 0#32
  ![1, v473.toNat, 24, v474.toNat, 0]
def k0_off3419 (v1 : BitVec 32) (k0_t51 : Fin (k0_t51_loop v1).trips) (v228 : BitVec 32) (v257 : BitVec 32) (k0_t65 : Fin (k0_t65_loop v228 v257).trips) : Fin 5 → Nat :=
  let c1_528 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v479 : Index := Scalar.indexCast v226
  let c25 : Index := 25#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v480 : Index := Scalar.indexCast v327
  let c0_529 : Index := 0#32
  ![1, v479.toNat, 25, v480.toNat, 0]
def k0_off3420 (v1 : BitVec 32) (k0_t51 : Fin (k0_t51_loop v1).trips) (v228 : BitVec 32) (v257 : BitVec 32) (k0_t65 : Fin (k0_t65_loop v228 v257).trips) : Fin 5 → Nat :=
  let c1_531 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v485 : Index := Scalar.indexCast v226
  let c26 : Index := 26#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v486 : Index := Scalar.indexCast v327
  let c0_532 : Index := 0#32
  ![1, v485.toNat, 26, v486.toNat, 0]
def k0_off3421 (v1 : BitVec 32) (k0_t51 : Fin (k0_t51_loop v1).trips) (v228 : BitVec 32) (v257 : BitVec 32) (k0_t65 : Fin (k0_t65_loop v228 v257).trips) : Fin 5 → Nat :=
  let c1_534 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v491 : Index := Scalar.indexCast v226
  let c27 : Index := 27#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v492 : Index := Scalar.indexCast v327
  let c0_535 : Index := 0#32
  ![1, v491.toNat, 27, v492.toNat, 0]
def k0_off3422 (v1 : BitVec 32) (k0_t51 : Fin (k0_t51_loop v1).trips) (v228 : BitVec 32) (v257 : BitVec 32) (k0_t65 : Fin (k0_t65_loop v228 v257).trips) : Fin 5 → Nat :=
  let c1_537 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v497 : Index := Scalar.indexCast v226
  let c28 : Index := 28#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v498 : Index := Scalar.indexCast v327
  let c0_538 : Index := 0#32
  ![1, v497.toNat, 28, v498.toNat, 0]
def k0_off3423 (v1 : BitVec 32) (k0_t51 : Fin (k0_t51_loop v1).trips) (v228 : BitVec 32) (v257 : BitVec 32) (k0_t65 : Fin (k0_t65_loop v228 v257).trips) : Fin 5 → Nat :=
  let c1_540 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v503 : Index := Scalar.indexCast v226
  let c29 : Index := 29#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v504 : Index := Scalar.indexCast v327
  let c0_541 : Index := 0#32
  ![1, v503.toNat, 29, v504.toNat, 0]
def k0_off3424 (v1 : BitVec 32) (k0_t51 : Fin (k0_t51_loop v1).trips) (v228 : BitVec 32) (v257 : BitVec 32) (k0_t65 : Fin (k0_t65_loop v228 v257).trips) : Fin 5 → Nat :=
  let c1_543 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v509 : Index := Scalar.indexCast v226
  let c30 : Index := 30#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v510 : Index := Scalar.indexCast v327
  let c0_544 : Index := 0#32
  ![1, v509.toNat, 30, v510.toNat, 0]
def k0_off3425 (v1 : BitVec 32) (k0_t51 : Fin (k0_t51_loop v1).trips) (v228 : BitVec 32) (v257 : BitVec 32) (k0_t65 : Fin (k0_t65_loop v228 v257).trips) : Fin 5 → Nat :=
  let c1_546 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v515 : Index := Scalar.indexCast v226
  let c31 : Index := 31#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v516 : Index := Scalar.indexCast v327
  let c0_547 : Index := 0#32
  ![1, v515.toNat, 31, v516.toNat, 0]
def k0_off3426 (v1 : BitVec 32) (k0_t51 : Fin (k0_t51_loop v1).trips) (v228 : BitVec 32) (v257 : BitVec 32) (k0_t65 : Fin (k0_t65_loop v228 v257).trips) : Fin 5 → Nat :=
  let c1_549 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v521 : Index := Scalar.indexCast v226
  let c32 : Index := 32#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v522 : Index := Scalar.indexCast v327
  let c0_550 : Index := 0#32
  ![1, v521.toNat, 32, v522.toNat, 0]
def k0_off3427 (v1 : BitVec 32) (k0_t51 : Fin (k0_t51_loop v1).trips) (v228 : BitVec 32) (v257 : BitVec 32) (k0_t65 : Fin (k0_t65_loop v228 v257).trips) : Fin 5 → Nat :=
  let c1_552 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v527 : Index := Scalar.indexCast v226
  let c33 : Index := 33#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v528 : Index := Scalar.indexCast v327
  let c0_553 : Index := 0#32
  ![1, v527.toNat, 33, v528.toNat, 0]
def k0_off3428 (v1 : BitVec 32) (k0_t51 : Fin (k0_t51_loop v1).trips) (v228 : BitVec 32) (v257 : BitVec 32) (k0_t65 : Fin (k0_t65_loop v228 v257).trips) : Fin 5 → Nat :=
  let c1_555 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v533 : Index := Scalar.indexCast v226
  let c34 : Index := 34#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v534 : Index := Scalar.indexCast v327
  let c0_556 : Index := 0#32
  ![1, v533.toNat, 34, v534.toNat, 0]
def k0_off3429 (v1 : BitVec 32) (k0_t51 : Fin (k0_t51_loop v1).trips) (v228 : BitVec 32) (v257 : BitVec 32) (k0_t65 : Fin (k0_t65_loop v228 v257).trips) : Fin 5 → Nat :=
  let c1_558 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v539 : Index := Scalar.indexCast v226
  let c35 : Index := 35#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v540 : Index := Scalar.indexCast v327
  let c0_559 : Index := 0#32
  ![1, v539.toNat, 35, v540.toNat, 0]
def k0_off3430 (v1 : BitVec 32) (k0_t51 : Fin (k0_t51_loop v1).trips) (v228 : BitVec 32) (v257 : BitVec 32) (k0_t65 : Fin (k0_t65_loop v228 v257).trips) : Fin 5 → Nat :=
  let c1_561 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v545 : Index := Scalar.indexCast v226
  let c36 : Index := 36#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v546 : Index := Scalar.indexCast v327
  let c0_562 : Index := 0#32
  ![1, v545.toNat, 36, v546.toNat, 0]
def k0_off3431 (v1 : BitVec 32) (k0_t51 : Fin (k0_t51_loop v1).trips) (v228 : BitVec 32) (v257 : BitVec 32) (k0_t65 : Fin (k0_t65_loop v228 v257).trips) : Fin 5 → Nat :=
  let c1_564 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v551 : Index := Scalar.indexCast v226
  let c37 : Index := 37#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v552 : Index := Scalar.indexCast v327
  let c0_565 : Index := 0#32
  ![1, v551.toNat, 37, v552.toNat, 0]
def k0_off3432 (v1 : BitVec 32) (k0_t51 : Fin (k0_t51_loop v1).trips) (v228 : BitVec 32) (v257 : BitVec 32) (k0_t65 : Fin (k0_t65_loop v228 v257).trips) : Fin 5 → Nat :=
  let c1_567 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v557 : Index := Scalar.indexCast v226
  let c38 : Index := 38#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v558 : Index := Scalar.indexCast v327
  let c0_568 : Index := 0#32
  ![1, v557.toNat, 38, v558.toNat, 0]
def k0_off3433 (v1 : BitVec 32) (k0_t51 : Fin (k0_t51_loop v1).trips) (v228 : BitVec 32) (v257 : BitVec 32) (k0_t65 : Fin (k0_t65_loop v228 v257).trips) : Fin 5 → Nat :=
  let c1_570 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v563 : Index := Scalar.indexCast v226
  let c39 : Index := 39#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v564 : Index := Scalar.indexCast v327
  let c0_571 : Index := 0#32
  ![1, v563.toNat, 39, v564.toNat, 0]
def k0_off3434 (v1 : BitVec 32) (k0_t51 : Fin (k0_t51_loop v1).trips) (v228 : BitVec 32) (v257 : BitVec 32) (k0_t65 : Fin (k0_t65_loop v228 v257).trips) : Fin 5 → Nat :=
  let c1_573 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v569 : Index := Scalar.indexCast v226
  let c40 : Index := 40#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v570 : Index := Scalar.indexCast v327
  let c0_574 : Index := 0#32
  ![1, v569.toNat, 40, v570.toNat, 0]
def k0_off3435 (v1 : BitVec 32) (k0_t51 : Fin (k0_t51_loop v1).trips) (v228 : BitVec 32) (v257 : BitVec 32) (k0_t65 : Fin (k0_t65_loop v228 v257).trips) : Fin 5 → Nat :=
  let c1_576 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v575 : Index := Scalar.indexCast v226
  let c41 : Index := 41#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v576 : Index := Scalar.indexCast v327
  let c0_577 : Index := 0#32
  ![1, v575.toNat, 41, v576.toNat, 0]
def k0_off3436 (v1 : BitVec 32) (k0_t51 : Fin (k0_t51_loop v1).trips) (v228 : BitVec 32) (v257 : BitVec 32) (k0_t65 : Fin (k0_t65_loop v228 v257).trips) : Fin 5 → Nat :=
  let c1_579 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v581 : Index := Scalar.indexCast v226
  let c42 : Index := 42#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v582 : Index := Scalar.indexCast v327
  let c0_580 : Index := 0#32
  ![1, v581.toNat, 42, v582.toNat, 0]
def k0_off3437 (v1 : BitVec 32) (k0_t51 : Fin (k0_t51_loop v1).trips) (v228 : BitVec 32) (v257 : BitVec 32) (k0_t65 : Fin (k0_t65_loop v228 v257).trips) : Fin 5 → Nat :=
  let c1_582 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v587 : Index := Scalar.indexCast v226
  let c43 : Index := 43#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v588 : Index := Scalar.indexCast v327
  let c0_583 : Index := 0#32
  ![1, v587.toNat, 43, v588.toNat, 0]
def k0_off3438 (v1 : BitVec 32) (k0_t51 : Fin (k0_t51_loop v1).trips) (v228 : BitVec 32) (v257 : BitVec 32) (k0_t65 : Fin (k0_t65_loop v228 v257).trips) : Fin 5 → Nat :=
  let c1_585 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v593 : Index := Scalar.indexCast v226
  let c44 : Index := 44#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v594 : Index := Scalar.indexCast v327
  let c0_586 : Index := 0#32
  ![1, v593.toNat, 44, v594.toNat, 0]
def k0_off3439 (v1 : BitVec 32) (k0_t51 : Fin (k0_t51_loop v1).trips) (v228 : BitVec 32) (v257 : BitVec 32) (k0_t65 : Fin (k0_t65_loop v228 v257).trips) : Fin 5 → Nat :=
  let c1_588 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v599 : Index := Scalar.indexCast v226
  let c45 : Index := 45#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v600 : Index := Scalar.indexCast v327
  let c0_589 : Index := 0#32
  ![1, v599.toNat, 45, v600.toNat, 0]
def k0_off3440 (v1 : BitVec 32) (k0_t51 : Fin (k0_t51_loop v1).trips) (v228 : BitVec 32) (v257 : BitVec 32) (k0_t65 : Fin (k0_t65_loop v228 v257).trips) : Fin 5 → Nat :=
  let c1_591 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v605 : Index := Scalar.indexCast v226
  let c46 : Index := 46#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v606 : Index := Scalar.indexCast v327
  let c0_592 : Index := 0#32
  ![1, v605.toNat, 46, v606.toNat, 0]
def k0_off3441 (v1 : BitVec 32) (k0_t51 : Fin (k0_t51_loop v1).trips) (v228 : BitVec 32) (v257 : BitVec 32) (k0_t65 : Fin (k0_t65_loop v228 v257).trips) : Fin 5 → Nat :=
  let c1_594 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v611 : Index := Scalar.indexCast v226
  let c47 : Index := 47#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v612 : Index := Scalar.indexCast v327
  let c0_595 : Index := 0#32
  ![1, v611.toNat, 47, v612.toNat, 0]
def k0_off3442 (v1 : BitVec 32) (k0_t51 : Fin (k0_t51_loop v1).trips) (v228 : BitVec 32) (v257 : BitVec 32) (k0_t65 : Fin (k0_t65_loop v228 v257).trips) : Fin 5 → Nat :=
  let c1_597 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v617 : Index := Scalar.indexCast v226
  let c48 : Index := 48#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v618 : Index := Scalar.indexCast v327
  let c0_598 : Index := 0#32
  ![1, v617.toNat, 48, v618.toNat, 0]
def k0_off3443 (v1 : BitVec 32) (k0_t51 : Fin (k0_t51_loop v1).trips) (v228 : BitVec 32) (v257 : BitVec 32) (k0_t65 : Fin (k0_t65_loop v228 v257).trips) : Fin 5 → Nat :=
  let c1_600 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v623 : Index := Scalar.indexCast v226
  let c49 : Index := 49#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v624 : Index := Scalar.indexCast v327
  let c0_601 : Index := 0#32
  ![1, v623.toNat, 49, v624.toNat, 0]
def k0_off3444 (v1 : BitVec 32) (k0_t51 : Fin (k0_t51_loop v1).trips) (v228 : BitVec 32) (v257 : BitVec 32) (k0_t65 : Fin (k0_t65_loop v228 v257).trips) : Fin 5 → Nat :=
  let c1_603 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v629 : Index := Scalar.indexCast v226
  let c50 : Index := 50#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v630 : Index := Scalar.indexCast v327
  let c0_604 : Index := 0#32
  ![1, v629.toNat, 50, v630.toNat, 0]
def k0_off3445 (v1 : BitVec 32) (k0_t51 : Fin (k0_t51_loop v1).trips) (v228 : BitVec 32) (v257 : BitVec 32) (k0_t65 : Fin (k0_t65_loop v228 v257).trips) : Fin 5 → Nat :=
  let c1_606 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v635 : Index := Scalar.indexCast v226
  let c51 : Index := 51#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v636 : Index := Scalar.indexCast v327
  let c0_607 : Index := 0#32
  ![1, v635.toNat, 51, v636.toNat, 0]
def k0_off3446 (v1 : BitVec 32) (k0_t51 : Fin (k0_t51_loop v1).trips) (v228 : BitVec 32) (v257 : BitVec 32) (k0_t65 : Fin (k0_t65_loop v228 v257).trips) : Fin 5 → Nat :=
  let c1_609 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v641 : Index := Scalar.indexCast v226
  let c52 : Index := 52#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v642 : Index := Scalar.indexCast v327
  let c0_610 : Index := 0#32
  ![1, v641.toNat, 52, v642.toNat, 0]
def k0_off3447 (v1 : BitVec 32) (k0_t51 : Fin (k0_t51_loop v1).trips) (v228 : BitVec 32) (v257 : BitVec 32) (k0_t65 : Fin (k0_t65_loop v228 v257).trips) : Fin 5 → Nat :=
  let c1_612 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v647 : Index := Scalar.indexCast v226
  let c53 : Index := 53#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v648 : Index := Scalar.indexCast v327
  let c0_613 : Index := 0#32
  ![1, v647.toNat, 53, v648.toNat, 0]
def k0_off3448 (v1 : BitVec 32) (k0_t51 : Fin (k0_t51_loop v1).trips) (v228 : BitVec 32) (v257 : BitVec 32) (k0_t65 : Fin (k0_t65_loop v228 v257).trips) : Fin 5 → Nat :=
  let c1_615 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v653 : Index := Scalar.indexCast v226
  let c54 : Index := 54#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v654 : Index := Scalar.indexCast v327
  let c0_616 : Index := 0#32
  ![1, v653.toNat, 54, v654.toNat, 0]
def k0_off3449 (v1 : BitVec 32) (k0_t51 : Fin (k0_t51_loop v1).trips) (v228 : BitVec 32) (v257 : BitVec 32) (k0_t65 : Fin (k0_t65_loop v228 v257).trips) : Fin 5 → Nat :=
  let c1_618 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v659 : Index := Scalar.indexCast v226
  let c55 : Index := 55#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v660 : Index := Scalar.indexCast v327
  let c0_619 : Index := 0#32
  ![1, v659.toNat, 55, v660.toNat, 0]
def k0_off3450 (v1 : BitVec 32) (k0_t51 : Fin (k0_t51_loop v1).trips) (v228 : BitVec 32) (v257 : BitVec 32) (k0_t65 : Fin (k0_t65_loop v228 v257).trips) : Fin 5 → Nat :=
  let c1_621 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v665 : Index := Scalar.indexCast v226
  let c56 : Index := 56#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v666 : Index := Scalar.indexCast v327
  let c0_622 : Index := 0#32
  ![1, v665.toNat, 56, v666.toNat, 0]
def k0_off3451 (v1 : BitVec 32) (k0_t51 : Fin (k0_t51_loop v1).trips) (v228 : BitVec 32) (v257 : BitVec 32) (k0_t65 : Fin (k0_t65_loop v228 v257).trips) : Fin 5 → Nat :=
  let c1_624 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v671 : Index := Scalar.indexCast v226
  let c57 : Index := 57#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v672 : Index := Scalar.indexCast v327
  let c0_625 : Index := 0#32
  ![1, v671.toNat, 57, v672.toNat, 0]
def k0_off3452 (v1 : BitVec 32) (k0_t51 : Fin (k0_t51_loop v1).trips) (v228 : BitVec 32) (v257 : BitVec 32) (k0_t65 : Fin (k0_t65_loop v228 v257).trips) : Fin 5 → Nat :=
  let c1_627 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v677 : Index := Scalar.indexCast v226
  let c58 : Index := 58#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v678 : Index := Scalar.indexCast v327
  let c0_628 : Index := 0#32
  ![1, v677.toNat, 58, v678.toNat, 0]
def k0_off3453 (v1 : BitVec 32) (k0_t51 : Fin (k0_t51_loop v1).trips) (v228 : BitVec 32) (v257 : BitVec 32) (k0_t65 : Fin (k0_t65_loop v228 v257).trips) : Fin 5 → Nat :=
  let c1_630 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v683 : Index := Scalar.indexCast v226
  let c59 : Index := 59#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v684 : Index := Scalar.indexCast v327
  let c0_631 : Index := 0#32
  ![1, v683.toNat, 59, v684.toNat, 0]
def k0_off3454 (v1 : BitVec 32) (k0_t51 : Fin (k0_t51_loop v1).trips) (v228 : BitVec 32) (v257 : BitVec 32) (k0_t65 : Fin (k0_t65_loop v228 v257).trips) : Fin 5 → Nat :=
  let c1_633 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v689 : Index := Scalar.indexCast v226
  let c60 : Index := 60#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v690 : Index := Scalar.indexCast v327
  let c0_634 : Index := 0#32
  ![1, v689.toNat, 60, v690.toNat, 0]
def k0_off3455 (v1 : BitVec 32) (k0_t51 : Fin (k0_t51_loop v1).trips) (v228 : BitVec 32) (v257 : BitVec 32) (k0_t65 : Fin (k0_t65_loop v228 v257).trips) : Fin 5 → Nat :=
  let c1_636 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v695 : Index := Scalar.indexCast v226
  let c61 : Index := 61#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v696 : Index := Scalar.indexCast v327
  let c0_637 : Index := 0#32
  ![1, v695.toNat, 61, v696.toNat, 0]
def k0_off3456 (v1 : BitVec 32) (k0_t51 : Fin (k0_t51_loop v1).trips) (v228 : BitVec 32) (v257 : BitVec 32) (k0_t65 : Fin (k0_t65_loop v228 v257).trips) : Fin 5 → Nat :=
  let c1_639 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v701 : Index := Scalar.indexCast v226
  let c62 : Index := 62#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v702 : Index := Scalar.indexCast v327
  let c0_640 : Index := 0#32
  ![1, v701.toNat, 62, v702.toNat, 0]
def k0_off3457 (v1 : BitVec 32) (k0_t51 : Fin (k0_t51_loop v1).trips) (v228 : BitVec 32) (v257 : BitVec 32) (k0_t65 : Fin (k0_t65_loop v228 v257).trips) : Fin 5 → Nat :=
  let c1_642 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v707 : Index := Scalar.indexCast v226
  let c63 : Index := 63#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v708 : Index := Scalar.indexCast v327
  let c0_643 : Index := 0#32
  ![1, v707.toNat, 63, v708.toNat, 0]
def k0_off3458 (v1 : BitVec 32) (k0_t51 : Fin (k0_t51_loop v1).trips) (v228 : BitVec 32) (v257 : BitVec 32) (k0_t65 : Fin (k0_t65_loop v228 v257).trips) : Fin 5 → Nat :=
  let c1_645 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v713 : Index := Scalar.indexCast v226
  let c64 : Index := 64#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v714 : Index := Scalar.indexCast v327
  let c0_646 : Index := 0#32
  ![1, v713.toNat, 64, v714.toNat, 0]
def k0_off3459 (v1 : BitVec 32) (k0_t51 : Fin (k0_t51_loop v1).trips) (v228 : BitVec 32) (v257 : BitVec 32) (k0_t65 : Fin (k0_t65_loop v228 v257).trips) : Fin 5 → Nat :=
  let c1_648 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v719 : Index := Scalar.indexCast v226
  let c65 : Index := 65#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v720 : Index := Scalar.indexCast v327
  let c0_649 : Index := 0#32
  ![1, v719.toNat, 65, v720.toNat, 0]
def k0_off3460 (v1 : BitVec 32) (k0_t51 : Fin (k0_t51_loop v1).trips) (v228 : BitVec 32) (v257 : BitVec 32) (k0_t65 : Fin (k0_t65_loop v228 v257).trips) : Fin 5 → Nat :=
  let c1_651 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v725 : Index := Scalar.indexCast v226
  let c66 : Index := 66#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v726 : Index := Scalar.indexCast v327
  let c0_652 : Index := 0#32
  ![1, v725.toNat, 66, v726.toNat, 0]
def k0_off3461 (v1 : BitVec 32) (k0_t51 : Fin (k0_t51_loop v1).trips) (v228 : BitVec 32) (v257 : BitVec 32) (k0_t65 : Fin (k0_t65_loop v228 v257).trips) : Fin 5 → Nat :=
  let c1_654 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v731 : Index := Scalar.indexCast v226
  let c67 : Index := 67#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v732 : Index := Scalar.indexCast v327
  let c0_655 : Index := 0#32
  ![1, v731.toNat, 67, v732.toNat, 0]
def k0_off3462 (v1 : BitVec 32) (k0_t51 : Fin (k0_t51_loop v1).trips) (v228 : BitVec 32) (v257 : BitVec 32) (k0_t65 : Fin (k0_t65_loop v228 v257).trips) : Fin 5 → Nat :=
  let c1_657 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v737 : Index := Scalar.indexCast v226
  let c68 : Index := 68#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v738 : Index := Scalar.indexCast v327
  let c0_658 : Index := 0#32
  ![1, v737.toNat, 68, v738.toNat, 0]
def k0_off3463 (v1 : BitVec 32) (k0_t51 : Fin (k0_t51_loop v1).trips) (v228 : BitVec 32) (v257 : BitVec 32) (k0_t65 : Fin (k0_t65_loop v228 v257).trips) : Fin 5 → Nat :=
  let c1_660 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v743 : Index := Scalar.indexCast v226
  let c69 : Index := 69#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v744 : Index := Scalar.indexCast v327
  let c0_661 : Index := 0#32
  ![1, v743.toNat, 69, v744.toNat, 0]
def k0_off3464 (v1 : BitVec 32) (k0_t51 : Fin (k0_t51_loop v1).trips) (v228 : BitVec 32) (v257 : BitVec 32) (k0_t65 : Fin (k0_t65_loop v228 v257).trips) : Fin 5 → Nat :=
  let c1_663 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v749 : Index := Scalar.indexCast v226
  let c70 : Index := 70#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v750 : Index := Scalar.indexCast v327
  let c0_664 : Index := 0#32
  ![1, v749.toNat, 70, v750.toNat, 0]
def k0_off3465 (v1 : BitVec 32) (k0_t51 : Fin (k0_t51_loop v1).trips) (v228 : BitVec 32) (v257 : BitVec 32) (k0_t65 : Fin (k0_t65_loop v228 v257).trips) : Fin 5 → Nat :=
  let c1_666 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v755 : Index := Scalar.indexCast v226
  let c71 : Index := 71#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v756 : Index := Scalar.indexCast v327
  let c0_667 : Index := 0#32
  ![1, v755.toNat, 71, v756.toNat, 0]
def k0_off3466 (v1 : BitVec 32) (k0_t51 : Fin (k0_t51_loop v1).trips) (v228 : BitVec 32) (v257 : BitVec 32) (k0_t65 : Fin (k0_t65_loop v228 v257).trips) : Fin 5 → Nat :=
  let c1_669 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v761 : Index := Scalar.indexCast v226
  let c72 : Index := 72#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v762 : Index := Scalar.indexCast v327
  let c0_670 : Index := 0#32
  ![1, v761.toNat, 72, v762.toNat, 0]
def k0_off3467 (v1 : BitVec 32) (k0_t51 : Fin (k0_t51_loop v1).trips) (v228 : BitVec 32) (v257 : BitVec 32) (k0_t65 : Fin (k0_t65_loop v228 v257).trips) : Fin 5 → Nat :=
  let c1_672 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v767 : Index := Scalar.indexCast v226
  let c73 : Index := 73#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v768 : Index := Scalar.indexCast v327
  let c0_673 : Index := 0#32
  ![1, v767.toNat, 73, v768.toNat, 0]
def k0_off3468 (v1 : BitVec 32) (k0_t51 : Fin (k0_t51_loop v1).trips) (v228 : BitVec 32) (v257 : BitVec 32) (k0_t65 : Fin (k0_t65_loop v228 v257).trips) : Fin 5 → Nat :=
  let c1_675 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v773 : Index := Scalar.indexCast v226
  let c74 : Index := 74#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v774 : Index := Scalar.indexCast v327
  let c0_676 : Index := 0#32
  ![1, v773.toNat, 74, v774.toNat, 0]
def k0_off3469 (v1 : BitVec 32) (k0_t51 : Fin (k0_t51_loop v1).trips) (v228 : BitVec 32) (v257 : BitVec 32) (k0_t65 : Fin (k0_t65_loop v228 v257).trips) : Fin 5 → Nat :=
  let c1_678 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v779 : Index := Scalar.indexCast v226
  let c75 : Index := 75#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v780 : Index := Scalar.indexCast v327
  let c0_679 : Index := 0#32
  ![1, v779.toNat, 75, v780.toNat, 0]
def k0_off3470 (v1 : BitVec 32) (k0_t51 : Fin (k0_t51_loop v1).trips) (v228 : BitVec 32) (v257 : BitVec 32) (k0_t65 : Fin (k0_t65_loop v228 v257).trips) : Fin 5 → Nat :=
  let c1_681 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v785 : Index := Scalar.indexCast v226
  let c76 : Index := 76#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v786 : Index := Scalar.indexCast v327
  let c0_682 : Index := 0#32
  ![1, v785.toNat, 76, v786.toNat, 0]
def k0_off3471 (v1 : BitVec 32) (k0_t51 : Fin (k0_t51_loop v1).trips) (v228 : BitVec 32) (v257 : BitVec 32) (k0_t65 : Fin (k0_t65_loop v228 v257).trips) : Fin 5 → Nat :=
  let c1_684 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v791 : Index := Scalar.indexCast v226
  let c77 : Index := 77#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v792 : Index := Scalar.indexCast v327
  let c0_685 : Index := 0#32
  ![1, v791.toNat, 77, v792.toNat, 0]
def k0_off3472 (v1 : BitVec 32) (k0_t51 : Fin (k0_t51_loop v1).trips) (v228 : BitVec 32) (v257 : BitVec 32) (k0_t65 : Fin (k0_t65_loop v228 v257).trips) : Fin 5 → Nat :=
  let c1_687 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v797 : Index := Scalar.indexCast v226
  let c78 : Index := 78#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v798 : Index := Scalar.indexCast v327
  let c0_688 : Index := 0#32
  ![1, v797.toNat, 78, v798.toNat, 0]
def k0_off3473 (v1 : BitVec 32) (k0_t51 : Fin (k0_t51_loop v1).trips) (v228 : BitVec 32) (v257 : BitVec 32) (k0_t65 : Fin (k0_t65_loop v228 v257).trips) : Fin 5 → Nat :=
  let c1_690 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v803 : Index := Scalar.indexCast v226
  let c79 : Index := 79#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v804 : Index := Scalar.indexCast v327
  let c0_691 : Index := 0#32
  ![1, v803.toNat, 79, v804.toNat, 0]
def k0_off3474 (v1 : BitVec 32) (k0_t51 : Fin (k0_t51_loop v1).trips) (v228 : BitVec 32) (v257 : BitVec 32) (k0_t65 : Fin (k0_t65_loop v228 v257).trips) : Fin 5 → Nat :=
  let c1_693 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v809 : Index := Scalar.indexCast v226
  let c80 : Index := 80#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v810 : Index := Scalar.indexCast v327
  let c0_694 : Index := 0#32
  ![1, v809.toNat, 80, v810.toNat, 0]
def k0_off3475 (v1 : BitVec 32) (k0_t51 : Fin (k0_t51_loop v1).trips) (v228 : BitVec 32) (v257 : BitVec 32) (k0_t65 : Fin (k0_t65_loop v228 v257).trips) : Fin 5 → Nat :=
  let c1_696 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v815 : Index := Scalar.indexCast v226
  let c81 : Index := 81#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v816 : Index := Scalar.indexCast v327
  let c0_697 : Index := 0#32
  ![1, v815.toNat, 81, v816.toNat, 0]
def k0_off3476 (v1 : BitVec 32) (k0_t51 : Fin (k0_t51_loop v1).trips) (v228 : BitVec 32) (v257 : BitVec 32) (k0_t65 : Fin (k0_t65_loop v228 v257).trips) : Fin 5 → Nat :=
  let c1_699 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v821 : Index := Scalar.indexCast v226
  let c82 : Index := 82#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v822 : Index := Scalar.indexCast v327
  let c0_700 : Index := 0#32
  ![1, v821.toNat, 82, v822.toNat, 0]
def k0_off3477 (v1 : BitVec 32) (k0_t51 : Fin (k0_t51_loop v1).trips) (v228 : BitVec 32) (v257 : BitVec 32) (k0_t65 : Fin (k0_t65_loop v228 v257).trips) : Fin 5 → Nat :=
  let c1_702 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v827 : Index := Scalar.indexCast v226
  let c83 : Index := 83#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v828 : Index := Scalar.indexCast v327
  let c0_703 : Index := 0#32
  ![1, v827.toNat, 83, v828.toNat, 0]
def k0_off3478 (v1 : BitVec 32) (k0_t51 : Fin (k0_t51_loop v1).trips) (v228 : BitVec 32) (v257 : BitVec 32) (k0_t65 : Fin (k0_t65_loop v228 v257).trips) : Fin 5 → Nat :=
  let c1_705 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v833 : Index := Scalar.indexCast v226
  let c84 : Index := 84#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v834 : Index := Scalar.indexCast v327
  let c0_706 : Index := 0#32
  ![1, v833.toNat, 84, v834.toNat, 0]
def k0_off3479 (v1 : BitVec 32) (k0_t51 : Fin (k0_t51_loop v1).trips) (v228 : BitVec 32) (v257 : BitVec 32) (k0_t65 : Fin (k0_t65_loop v228 v257).trips) : Fin 5 → Nat :=
  let c1_708 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v839 : Index := Scalar.indexCast v226
  let c85 : Index := 85#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v840 : Index := Scalar.indexCast v327
  let c0_709 : Index := 0#32
  ![1, v839.toNat, 85, v840.toNat, 0]
def k0_off3480 (v1 : BitVec 32) (k0_t51 : Fin (k0_t51_loop v1).trips) (v228 : BitVec 32) (v257 : BitVec 32) (k0_t65 : Fin (k0_t65_loop v228 v257).trips) : Fin 5 → Nat :=
  let c1_711 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v845 : Index := Scalar.indexCast v226
  let c86 : Index := 86#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v846 : Index := Scalar.indexCast v327
  let c0_712 : Index := 0#32
  ![1, v845.toNat, 86, v846.toNat, 0]
def k0_off3481 (v1 : BitVec 32) (k0_t51 : Fin (k0_t51_loop v1).trips) (v228 : BitVec 32) (v257 : BitVec 32) (k0_t65 : Fin (k0_t65_loop v228 v257).trips) : Fin 5 → Nat :=
  let c1_714 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v851 : Index := Scalar.indexCast v226
  let c87 : Index := 87#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v852 : Index := Scalar.indexCast v327
  let c0_715 : Index := 0#32
  ![1, v851.toNat, 87, v852.toNat, 0]
def k0_off3482 (v1 : BitVec 32) (k0_t51 : Fin (k0_t51_loop v1).trips) (v228 : BitVec 32) (v257 : BitVec 32) (k0_t65 : Fin (k0_t65_loop v228 v257).trips) : Fin 5 → Nat :=
  let c1_717 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v857 : Index := Scalar.indexCast v226
  let c88 : Index := 88#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v858 : Index := Scalar.indexCast v327
  let c0_718 : Index := 0#32
  ![1, v857.toNat, 88, v858.toNat, 0]
def k0_off3483 (v1 : BitVec 32) (k0_t51 : Fin (k0_t51_loop v1).trips) (v228 : BitVec 32) (v257 : BitVec 32) (k0_t65 : Fin (k0_t65_loop v228 v257).trips) : Fin 5 → Nat :=
  let c1_720 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v863 : Index := Scalar.indexCast v226
  let c89 : Index := 89#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v864 : Index := Scalar.indexCast v327
  let c0_721 : Index := 0#32
  ![1, v863.toNat, 89, v864.toNat, 0]
def k0_off3484 (v1 : BitVec 32) (k0_t51 : Fin (k0_t51_loop v1).trips) (v228 : BitVec 32) (v257 : BitVec 32) (k0_t65 : Fin (k0_t65_loop v228 v257).trips) : Fin 5 → Nat :=
  let c1_723 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v869 : Index := Scalar.indexCast v226
  let c90 : Index := 90#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v870 : Index := Scalar.indexCast v327
  let c0_724 : Index := 0#32
  ![1, v869.toNat, 90, v870.toNat, 0]
def k0_off3485 (v1 : BitVec 32) (k0_t51 : Fin (k0_t51_loop v1).trips) (v228 : BitVec 32) (v257 : BitVec 32) (k0_t65 : Fin (k0_t65_loop v228 v257).trips) : Fin 5 → Nat :=
  let c1_726 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v875 : Index := Scalar.indexCast v226
  let c91 : Index := 91#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v876 : Index := Scalar.indexCast v327
  let c0_727 : Index := 0#32
  ![1, v875.toNat, 91, v876.toNat, 0]
def k0_off3486 (v1 : BitVec 32) (k0_t51 : Fin (k0_t51_loop v1).trips) (v228 : BitVec 32) (v257 : BitVec 32) (k0_t65 : Fin (k0_t65_loop v228 v257).trips) : Fin 5 → Nat :=
  let c1_729 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v881 : Index := Scalar.indexCast v226
  let c92 : Index := 92#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v882 : Index := Scalar.indexCast v327
  let c0_730 : Index := 0#32
  ![1, v881.toNat, 92, v882.toNat, 0]
def k0_off3487 (v1 : BitVec 32) (k0_t51 : Fin (k0_t51_loop v1).trips) (v228 : BitVec 32) (v257 : BitVec 32) (k0_t65 : Fin (k0_t65_loop v228 v257).trips) : Fin 5 → Nat :=
  let c1_732 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v887 : Index := Scalar.indexCast v226
  let c93 : Index := 93#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v888 : Index := Scalar.indexCast v327
  let c0_733 : Index := 0#32
  ![1, v887.toNat, 93, v888.toNat, 0]
def k0_off3488 (v1 : BitVec 32) (k0_t51 : Fin (k0_t51_loop v1).trips) (v228 : BitVec 32) (v257 : BitVec 32) (k0_t65 : Fin (k0_t65_loop v228 v257).trips) : Fin 5 → Nat :=
  let c1_735 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v893 : Index := Scalar.indexCast v226
  let c94 : Index := 94#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v894 : Index := Scalar.indexCast v327
  let c0_736 : Index := 0#32
  ![1, v893.toNat, 94, v894.toNat, 0]
def k0_off3489 (v1 : BitVec 32) (k0_t51 : Fin (k0_t51_loop v1).trips) (v228 : BitVec 32) (v257 : BitVec 32) (k0_t65 : Fin (k0_t65_loop v228 v257).trips) : Fin 5 → Nat :=
  let c1_738 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v899 : Index := Scalar.indexCast v226
  let c95 : Index := 95#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v900 : Index := Scalar.indexCast v327
  let c0_739 : Index := 0#32
  ![1, v899.toNat, 95, v900.toNat, 0]
def k0_off3490 (v1 : BitVec 32) (k0_t51 : Fin (k0_t51_loop v1).trips) (v228 : BitVec 32) (v257 : BitVec 32) (k0_t65 : Fin (k0_t65_loop v228 v257).trips) : Fin 5 → Nat :=
  let c1_741 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v905 : Index := Scalar.indexCast v226
  let c96 : Index := 96#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v906 : Index := Scalar.indexCast v327
  let c0_742 : Index := 0#32
  ![1, v905.toNat, 96, v906.toNat, 0]
def k0_off3491 (v1 : BitVec 32) (k0_t51 : Fin (k0_t51_loop v1).trips) (v228 : BitVec 32) (v257 : BitVec 32) (k0_t65 : Fin (k0_t65_loop v228 v257).trips) : Fin 5 → Nat :=
  let c1_744 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v911 : Index := Scalar.indexCast v226
  let c97 : Index := 97#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v912 : Index := Scalar.indexCast v327
  let c0_745 : Index := 0#32
  ![1, v911.toNat, 97, v912.toNat, 0]
def k0_off3492 (v1 : BitVec 32) (k0_t51 : Fin (k0_t51_loop v1).trips) (v228 : BitVec 32) (v257 : BitVec 32) (k0_t65 : Fin (k0_t65_loop v228 v257).trips) : Fin 5 → Nat :=
  let c1_747 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v917 : Index := Scalar.indexCast v226
  let c98 : Index := 98#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v918 : Index := Scalar.indexCast v327
  let c0_748 : Index := 0#32
  ![1, v917.toNat, 98, v918.toNat, 0]
def k0_off3493 (v1 : BitVec 32) (k0_t51 : Fin (k0_t51_loop v1).trips) (v228 : BitVec 32) (v257 : BitVec 32) (k0_t65 : Fin (k0_t65_loop v228 v257).trips) : Fin 5 → Nat :=
  let c1_750 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v923 : Index := Scalar.indexCast v226
  let c99 : Index := 99#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v924 : Index := Scalar.indexCast v327
  let c0_751 : Index := 0#32
  ![1, v923.toNat, 99, v924.toNat, 0]
def k0_off3494 (v1 : BitVec 32) (k0_t51 : Fin (k0_t51_loop v1).trips) (v228 : BitVec 32) (v257 : BitVec 32) (k0_t65 : Fin (k0_t65_loop v228 v257).trips) : Fin 5 → Nat :=
  let c1_753 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v929 : Index := Scalar.indexCast v226
  let c100 : Index := 100#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v930 : Index := Scalar.indexCast v327
  let c0_754 : Index := 0#32
  ![1, v929.toNat, 100, v930.toNat, 0]
def k0_off3495 (v1 : BitVec 32) (k0_t51 : Fin (k0_t51_loop v1).trips) (v228 : BitVec 32) (v257 : BitVec 32) (k0_t65 : Fin (k0_t65_loop v228 v257).trips) : Fin 5 → Nat :=
  let c1_756 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v935 : Index := Scalar.indexCast v226
  let c101 : Index := 101#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v936 : Index := Scalar.indexCast v327
  let c0_757 : Index := 0#32
  ![1, v935.toNat, 101, v936.toNat, 0]
def k0_off3496 (v1 : BitVec 32) (k0_t51 : Fin (k0_t51_loop v1).trips) (v228 : BitVec 32) (v257 : BitVec 32) (k0_t65 : Fin (k0_t65_loop v228 v257).trips) : Fin 5 → Nat :=
  let c1_759 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v941 : Index := Scalar.indexCast v226
  let c102 : Index := 102#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v942 : Index := Scalar.indexCast v327
  let c0_760 : Index := 0#32
  ![1, v941.toNat, 102, v942.toNat, 0]
def k0_off3497 (v1 : BitVec 32) (k0_t51 : Fin (k0_t51_loop v1).trips) (v228 : BitVec 32) (v257 : BitVec 32) (k0_t65 : Fin (k0_t65_loop v228 v257).trips) : Fin 5 → Nat :=
  let c1_762 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v947 : Index := Scalar.indexCast v226
  let c103 : Index := 103#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v948 : Index := Scalar.indexCast v327
  let c0_763 : Index := 0#32
  ![1, v947.toNat, 103, v948.toNat, 0]
def k0_off3498 (v1 : BitVec 32) (k0_t51 : Fin (k0_t51_loop v1).trips) (v228 : BitVec 32) (v257 : BitVec 32) (k0_t65 : Fin (k0_t65_loop v228 v257).trips) : Fin 5 → Nat :=
  let c1_765 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v953 : Index := Scalar.indexCast v226
  let c104 : Index := 104#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v954 : Index := Scalar.indexCast v327
  let c0_766 : Index := 0#32
  ![1, v953.toNat, 104, v954.toNat, 0]
def k0_off3499 (v1 : BitVec 32) (k0_t51 : Fin (k0_t51_loop v1).trips) (v228 : BitVec 32) (v257 : BitVec 32) (k0_t65 : Fin (k0_t65_loop v228 v257).trips) : Fin 5 → Nat :=
  let c1_768 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v959 : Index := Scalar.indexCast v226
  let c105 : Index := 105#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v960 : Index := Scalar.indexCast v327
  let c0_769 : Index := 0#32
  ![1, v959.toNat, 105, v960.toNat, 0]
def k0_off3500 (v1 : BitVec 32) (k0_t51 : Fin (k0_t51_loop v1).trips) (v228 : BitVec 32) (v257 : BitVec 32) (k0_t65 : Fin (k0_t65_loop v228 v257).trips) : Fin 5 → Nat :=
  let c1_771 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v965 : Index := Scalar.indexCast v226
  let c106 : Index := 106#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v966 : Index := Scalar.indexCast v327
  let c0_772 : Index := 0#32
  ![1, v965.toNat, 106, v966.toNat, 0]
def k0_off3501 (v1 : BitVec 32) (k0_t51 : Fin (k0_t51_loop v1).trips) (v228 : BitVec 32) (v257 : BitVec 32) (k0_t65 : Fin (k0_t65_loop v228 v257).trips) : Fin 5 → Nat :=
  let c1_774 : Index := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let v971 : Index := Scalar.indexCast v226
  let c107 : Index := 107#32
  let c8_i32_397 : BitVec 32 := 8#32
  let c0_i32_396 : BitVec 32 := 0#32
  let c2048_i32 : BitVec 32 := 2048#32
  let c0_i32_393 : BitVec 32 := 0#32
  let v258 : BitVec 32 := Scalar.maxsi c0_i32_393 v257
  let v259 : BitVec 32 := Scalar.minsi c2048_i32 v258
  let c15_i32 : BitVec 32 := 15#32
  let v260 : BitVec 32 := Scalar.addi v259 c15_i32
  let c16_i32_394 : BitVec 32 := 16#32
  let v261 : BitVec 32 := Scalar.divsi v260 c16_i32_394
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c8_i32_395 : BitVec 32 := 8#32
  let v262 : BitVec 32 := Scalar.muli v255 c8_i32_395
  let v263 : BitVec 32 := Scalar.subi v261 v262
  let v264 : BitVec 32 := Scalar.maxsi c0_i32_396 v263
  let v265 : BitVec 32 := Scalar.minsi c8_i32_397 v264
  let c8_i32_438 : BitVec 32 := 8#32
  let v309 : BitVec 32 := Scalar.subi c8_i32_438 v265
  let c1_i32_439 : BitVec 32 := 1#32
  let v311 : BitVec 32 := Scalar.divsi v309 c1_i32_439
  let v312 : BitVec 32 := Scalar.muli v311 c1_i32_439
  let v313 : BitVec 32 := Scalar.addi v265 v312
  let c1_i32_441 : BitVec 32 := 1#32
  let arg19 : BitVec 32 := Scf.iv v313 c1_i32_441 k0_t65
  let c16_i32_452 : BitVec 32 := 16#32
  let v326 : BitVec 32 := Scalar.muli arg19 c16_i32_452
  let v327 : BitVec 32 := v326
  let v972 : Index := Scalar.indexCast v327
  let c0_775 : Index := 0#32
  ![1, v971.toNat, 107, v972.toNat, 0]

variable {F : FTy → Type} [BitOps F]

def k0_chk35_0 (v1 : BitVec 32) (k0_t51 : Fin (k0_t51_loop v1).trips) (v228 : BitVec 32) (v257 : BitVec 32) : Prop :=
  ((k0_t52_loop v228 v257).OK) ∧
  (∀ k0_t52 : Fin (k0_t52_loop v228 v257).trips, ∀ a, (k0_off1957 v1 k0_t51) a + S1x1.size a ≤ S2x2.size a) ∧
  (∀ k0_t52 : Fin (k0_t52_loop v228 v257).trips, ∀ a, (k0_off1958 v1 k0_t51 v228 v257 k0_t52) a + S1x1x1x1728x128.size a ≤ S2x2x8x1728x128.size a) ∧
  (∀ k0_t52 : Fin (k0_t52_loop v228 v257).trips, ∀ (hinb : ∀ a, (k0_off1958 v1 k0_t51 v228 v257 k0_t52) a + S1x1x1x1728x128.size a ≤ S2x2x8x1728x128.size a), (Rect.unit (s := S2x2x8x1728x128) (k0_off1958 v1 k0_t51 v228 v257 k0_t52) S1x1x1x1728x128.size hinb).WholeWords (EltTy.packing .fp8e4m3)) ∧
  ((k0_t53_loop v228 v257).OK) ∧
  (∀ k0_t53 : Fin (k0_t53_loop v228 v257).trips, ∀ a, (k0_off1959 v1 k0_t51) a + S1x1.size a ≤ S2x2.size a) ∧
  (∀ k0_t53 : Fin (k0_t53_loop v228 v257).trips, ∀ a, (k0_off1960 v1 k0_t51 v228 v257 k0_t53) a + S1x1x1x1728x128.size a ≤ S2x2x8x1728x128.size a) ∧
  (∀ k0_t53 : Fin (k0_t53_loop v228 v257).trips, ∀ (hinb : ∀ a, (k0_off1960 v1 k0_t51 v228 v257 k0_t53) a + S1x1x1x1728x128.size a ≤ S2x2x8x1728x128.size a), (Rect.unit (s := S2x2x8x1728x128) (k0_off1960 v1 k0_t51 v228 v257 k0_t53) S1x1x1x1728x128.size hinb).WholeWords (EltTy.packing .fp8e4m3)) ∧
  ((k0_t54_loop v228 v257).OK) ∧
  (∀ k0_t54 : Fin (k0_t54_loop v228 v257).trips, ∀ a, (k0_off1963 v228 v257 k0_t54) a + S1x1.size a ≤ S8x128.size a) ∧
  (∀ k0_t54 : Fin (k0_t54_loop v228 v257).trips, ∀ a, (k0_off1964 v228) a + S1.size a ≤ S8.size a) ∧
  (∀ k0_t54 : Fin (k0_t54_loop v228 v257).trips, 16 ∣ (k0_mult18 v228 v257 k0_t54).toNat) ∧
  (∀ k0_t54 : Fin (k0_t54_loop v228 v257).trips, ∀ a, (k0_off1965 v1 k0_t51 v228 v257 k0_t54) a + S1x1x1x32x128.size a ≤ S2x2x8x1728x128.size a) ∧
  (∀ k0_t54 : Fin (k0_t54_loop v228 v257).trips, ∀ a, (k0_off1967 v1 k0_t51 v228 v257 k0_t54) a + S1x1x1x16x128.size a ≤ S2x2x108x128x128.size a) ∧
  (∀ k0_t54 : Fin (k0_t54_loop v228 v257).trips, ∀ (hinb : ∀ a, (k0_off1967 v1 k0_t51 v228 v257 k0_t54) a + S1x1x1x16x128.size a ≤ S2x2x108x128x128.size a), (Rect.unit (s := S2x2x108x128x128) (k0_off1967 v1 k0_t51 v228 v257 k0_t54) S1x1x1x16x128.size hinb).PackedRows (EltTy.packing .bf16)) ∧
  (∀ k0_t54 : Fin (k0_t54_loop v228 v257).trips, ∀ a, (k0_off1969 v1 k0_t51 v228 v257 k0_t54) a + S1x1x1x16x128.size a ≤ S2x2x108x128x128.size a) ∧
  (∀ k0_t54 : Fin (k0_t54_loop v228 v257).trips, ∀ (hinb : ∀ a, (k0_off1969 v1 k0_t51 v228 v257 k0_t54) a + S1x1x1x16x128.size a ≤ S2x2x108x128x128.size a), (Rect.unit (s := S2x2x108x128x128) (k0_off1969 v1 k0_t51 v228 v257 k0_t54) S1x1x1x16x128.size hinb).PackedRows (EltTy.packing .bf16)) ∧
  (∀ k0_t54 : Fin (k0_t54_loop v228 v257).trips, ∀ a, (k0_off1970 v1 k0_t51 v228 v257 k0_t54) a + S1x1x1x32x128.size a ≤ S2x2x8x1728x128.size a) ∧
  (∀ k0_t54 : Fin (k0_t54_loop v228 v257).trips, ∀ a, (k0_off1972 v1 k0_t51 v228 v257 k0_t54) a + S1x1x1x16x128.size a ≤ S2x2x108x128x128.size a) ∧
  (∀ k0_t54 : Fin (k0_t54_loop v228 v257).trips, ∀ (hinb : ∀ a, (k0_off1972 v1 k0_t51 v228 v257 k0_t54) a + S1x1x1x16x128.size a ≤ S2x2x108x128x128.size a), (Rect.unit (s := S2x2x108x128x128) (k0_off1972 v1 k0_t51 v228 v257 k0_t54) S1x1x1x16x128.size hinb).PackedRows (EltTy.packing .bf16)) ∧
  (∀ k0_t54 : Fin (k0_t54_loop v228 v257).trips, ∀ a, (k0_off1974 v1 k0_t51 v228 v257 k0_t54) a + S1x1x1x16x128.size a ≤ S2x2x108x128x128.size a) ∧
  (∀ k0_t54 : Fin (k0_t54_loop v228 v257).trips, ∀ (hinb : ∀ a, (k0_off1974 v1 k0_t51 v228 v257 k0_t54) a + S1x1x1x16x128.size a ≤ S2x2x108x128x128.size a), (Rect.unit (s := S2x2x108x128x128) (k0_off1974 v1 k0_t51 v228 v257 k0_t54) S1x1x1x16x128.size hinb).PackedRows (EltTy.packing .bf16)) ∧
  (∀ k0_t54 : Fin (k0_t54_loop v228 v257).trips, ∀ a, (k0_off1975 v1 k0_t51 v228 v257 k0_t54) a + S1x1x1x32x128.size a ≤ S2x2x8x1728x128.size a) ∧
  (∀ k0_t54 : Fin (k0_t54_loop v228 v257).trips, ∀ a, (k0_off1977 v1 k0_t51 v228 v257 k0_t54) a + S1x1x1x16x128.size a ≤ S2x2x108x128x128.size a) ∧
  (∀ k0_t54 : Fin (k0_t54_loop v228 v257).trips, ∀ (hinb : ∀ a, (k0_off1977 v1 k0_t51 v228 v257 k0_t54) a + S1x1x1x16x128.size a ≤ S2x2x108x128x128.size a), (Rect.unit (s := S2x2x108x128x128) (k0_off1977 v1 k0_t51 v228 v257 k0_t54) S1x1x1x16x128.size hinb).PackedRows (EltTy.packing .bf16)) ∧
  (∀ k0_t54 : Fin (k0_t54_loop v228 v257).trips, ∀ a, (k0_off1979 v1 k0_t51 v228 v257 k0_t54) a + S1x1x1x16x128.size a ≤ S2x2x108x128x128.size a) ∧
  (∀ k0_t54 : Fin (k0_t54_loop v228 v257).trips, ∀ (hinb : ∀ a, (k0_off1979 v1 k0_t51 v228 v257 k0_t54) a + S1x1x1x16x128.size a ≤ S2x2x108x128x128.size a), (Rect.unit (s := S2x2x108x128x128) (k0_off1979 v1 k0_t51 v228 v257 k0_t54) S1x1x1x16x128.size hinb).PackedRows (EltTy.packing .bf16)) ∧
  (∀ k0_t54 : Fin (k0_t54_loop v228 v257).trips, ∀ a, (k0_off1980 v1 k0_t51 v228 v257 k0_t54) a + S1x1x1x32x128.size a ≤ S2x2x8x1728x128.size a) ∧
  (∀ k0_t54 : Fin (k0_t54_loop v228 v257).trips, ∀ a, (k0_off1982 v1 k0_t51 v228 v257 k0_t54) a + S1x1x1x16x128.size a ≤ S2x2x108x128x128.size a) ∧
  (∀ k0_t54 : Fin (k0_t54_loop v228 v257).trips, ∀ (hinb : ∀ a, (k0_off1982 v1 k0_t51 v228 v257 k0_t54) a + S1x1x1x16x128.size a ≤ S2x2x108x128x128.size a), (Rect.unit (s := S2x2x108x128x128) (k0_off1982 v1 k0_t51 v228 v257 k0_t54) S1x1x1x16x128.size hinb).PackedRows (EltTy.packing .bf16)) ∧
  (∀ k0_t54 : Fin (k0_t54_loop v228 v257).trips, ∀ a, (k0_off1984 v1 k0_t51 v228 v257 k0_t54) a + S1x1x1x16x128.size a ≤ S2x2x108x128x128.size a) ∧
  (∀ k0_t54 : Fin (k0_t54_loop v228 v257).trips, ∀ (hinb : ∀ a, (k0_off1984 v1 k0_t51 v228 v257 k0_t54) a + S1x1x1x16x128.size a ≤ S2x2x108x128x128.size a), (Rect.unit (s := S2x2x108x128x128) (k0_off1984 v1 k0_t51 v228 v257 k0_t54) S1x1x1x16x128.size hinb).PackedRows (EltTy.packing .bf16))
def k0_chk35_1 (v1 : BitVec 32) (k0_t51 : Fin (k0_t51_loop v1).trips) (v228 : BitVec 32) (v257 : BitVec 32) : Prop :=
  (∀ k0_t54 : Fin (k0_t54_loop v228 v257).trips, ∀ a, (k0_off1985 v1 k0_t51 v228 v257 k0_t54) a + S1x1x1x32x128.size a ≤ S2x2x8x1728x128.size a) ∧
  (∀ k0_t54 : Fin (k0_t54_loop v228 v257).trips, ∀ a, (k0_off1987 v1 k0_t51 v228 v257 k0_t54) a + S1x1x1x16x128.size a ≤ S2x2x108x128x128.size a) ∧
  (∀ k0_t54 : Fin (k0_t54_loop v228 v257).trips, ∀ (hinb : ∀ a, (k0_off1987 v1 k0_t51 v228 v257 k0_t54) a + S1x1x1x16x128.size a ≤ S2x2x108x128x128.size a), (Rect.unit (s := S2x2x108x128x128) (k0_off1987 v1 k0_t51 v228 v257 k0_t54) S1x1x1x16x128.size hinb).PackedRows (EltTy.packing .bf16)) ∧
  (∀ k0_t54 : Fin (k0_t54_loop v228 v257).trips, ∀ a, (k0_off1989 v1 k0_t51 v228 v257 k0_t54) a + S1x1x1x16x128.size a ≤ S2x2x108x128x128.size a) ∧
  (∀ k0_t54 : Fin (k0_t54_loop v228 v257).trips, ∀ (hinb : ∀ a, (k0_off1989 v1 k0_t51 v228 v257 k0_t54) a + S1x1x1x16x128.size a ≤ S2x2x108x128x128.size a), (Rect.unit (s := S2x2x108x128x128) (k0_off1989 v1 k0_t51 v228 v257 k0_t54) S1x1x1x16x128.size hinb).PackedRows (EltTy.packing .bf16)) ∧
  (∀ k0_t54 : Fin (k0_t54_loop v228 v257).trips, ∀ a, (k0_off1990 v1 k0_t51 v228 v257 k0_t54) a + S1x1x1x32x128.size a ≤ S2x2x8x1728x128.size a) ∧
  (∀ k0_t54 : Fin (k0_t54_loop v228 v257).trips, ∀ a, (k0_off1992 v1 k0_t51 v228 v257 k0_t54) a + S1x1x1x16x128.size a ≤ S2x2x108x128x128.size a) ∧
  (∀ k0_t54 : Fin (k0_t54_loop v228 v257).trips, ∀ (hinb : ∀ a, (k0_off1992 v1 k0_t51 v228 v257 k0_t54) a + S1x1x1x16x128.size a ≤ S2x2x108x128x128.size a), (Rect.unit (s := S2x2x108x128x128) (k0_off1992 v1 k0_t51 v228 v257 k0_t54) S1x1x1x16x128.size hinb).PackedRows (EltTy.packing .bf16)) ∧
  (∀ k0_t54 : Fin (k0_t54_loop v228 v257).trips, ∀ a, (k0_off1994 v1 k0_t51 v228 v257 k0_t54) a + S1x1x1x16x128.size a ≤ S2x2x108x128x128.size a) ∧
  (∀ k0_t54 : Fin (k0_t54_loop v228 v257).trips, ∀ (hinb : ∀ a, (k0_off1994 v1 k0_t51 v228 v257 k0_t54) a + S1x1x1x16x128.size a ≤ S2x2x108x128x128.size a), (Rect.unit (s := S2x2x108x128x128) (k0_off1994 v1 k0_t51 v228 v257 k0_t54) S1x1x1x16x128.size hinb).PackedRows (EltTy.packing .bf16)) ∧
  (∀ k0_t54 : Fin (k0_t54_loop v228 v257).trips, ∀ a, (k0_off1995 v1 k0_t51 v228 v257 k0_t54) a + S1x1x1x32x128.size a ≤ S2x2x8x1728x128.size a) ∧
  (∀ k0_t54 : Fin (k0_t54_loop v228 v257).trips, ∀ a, (k0_off1997 v1 k0_t51 v228 v257 k0_t54) a + S1x1x1x16x128.size a ≤ S2x2x108x128x128.size a) ∧
  (∀ k0_t54 : Fin (k0_t54_loop v228 v257).trips, ∀ (hinb : ∀ a, (k0_off1997 v1 k0_t51 v228 v257 k0_t54) a + S1x1x1x16x128.size a ≤ S2x2x108x128x128.size a), (Rect.unit (s := S2x2x108x128x128) (k0_off1997 v1 k0_t51 v228 v257 k0_t54) S1x1x1x16x128.size hinb).PackedRows (EltTy.packing .bf16)) ∧
  (∀ k0_t54 : Fin (k0_t54_loop v228 v257).trips, ∀ a, (k0_off1999 v1 k0_t51 v228 v257 k0_t54) a + S1x1x1x16x128.size a ≤ S2x2x108x128x128.size a) ∧
  (∀ k0_t54 : Fin (k0_t54_loop v228 v257).trips, ∀ (hinb : ∀ a, (k0_off1999 v1 k0_t51 v228 v257 k0_t54) a + S1x1x1x16x128.size a ≤ S2x2x108x128x128.size a), (Rect.unit (s := S2x2x108x128x128) (k0_off1999 v1 k0_t51 v228 v257 k0_t54) S1x1x1x16x128.size hinb).PackedRows (EltTy.packing .bf16)) ∧
  (∀ k0_t54 : Fin (k0_t54_loop v228 v257).trips, ∀ a, (k0_off2000 v1 k0_t51 v228 v257 k0_t54) a + S1x1x1x32x128.size a ≤ S2x2x8x1728x128.size a) ∧
  (∀ k0_t54 : Fin (k0_t54_loop v228 v257).trips, ∀ a, (k0_off2002 v1 k0_t51 v228 v257 k0_t54) a + S1x1x1x16x128.size a ≤ S2x2x108x128x128.size a) ∧
  (∀ k0_t54 : Fin (k0_t54_loop v228 v257).trips, ∀ (hinb : ∀ a, (k0_off2002 v1 k0_t51 v228 v257 k0_t54) a + S1x1x1x16x128.size a ≤ S2x2x108x128x128.size a), (Rect.unit (s := S2x2x108x128x128) (k0_off2002 v1 k0_t51 v228 v257 k0_t54) S1x1x1x16x128.size hinb).PackedRows (EltTy.packing .bf16)) ∧
  (∀ k0_t54 : Fin (k0_t54_loop v228 v257).trips, ∀ a, (k0_off2004 v1 k0_t51 v228 v257 k0_t54) a + S1x1x1x16x128.size a ≤ S2x2x108x128x128.size a) ∧
  (∀ k0_t54 : Fin (k0_t54_loop v228 v257).trips, ∀ (hinb : ∀ a, (k0_off2004 v1 k0_t51 v228 v257 k0_t54) a + S1x1x1x16x128.size a ≤ S2x2x108x128x128.size a), (Rect.unit (s := S2x2x108x128x128) (k0_off2004 v1 k0_t51 v228 v257 k0_t54) S1x1x1x16x128.size hinb).PackedRows (EltTy.packing .bf16)) ∧
  (∀ k0_t54 : Fin (k0_t54_loop v228 v257).trips, ∀ a, (k0_off2005 v1 k0_t51 v228 v257 k0_t54) a + S1x1x1x32x128.size a ≤ S2x2x8x1728x128.size a) ∧
  (∀ k0_t54 : Fin (k0_t54_loop v228 v257).trips, ∀ a, (k0_off2007 v1 k0_t51 v228 v257 k0_t54) a + S1x1x1x16x128.size a ≤ S2x2x108x128x128.size a) ∧
  (∀ k0_t54 : Fin (k0_t54_loop v228 v257).trips, ∀ (hinb : ∀ a, (k0_off2007 v1 k0_t51 v228 v257 k0_t54) a + S1x1x1x16x128.size a ≤ S2x2x108x128x128.size a), (Rect.unit (s := S2x2x108x128x128) (k0_off2007 v1 k0_t51 v228 v257 k0_t54) S1x1x1x16x128.size hinb).PackedRows (EltTy.packing .bf16)) ∧
  (∀ k0_t54 : Fin (k0_t54_loop v228 v257).trips, ∀ a, (k0_off2009 v1 k0_t51 v228 v257 k0_t54) a + S1x1x1x16x128.size a ≤ S2x2x108x128x128.size a) ∧
  (∀ k0_t54 : Fin (k0_t54_loop v228 v257).trips, ∀ (hinb : ∀ a, (k0_off2009 v1 k0_t51 v228 v257 k0_t54) a + S1x1x1x16x128.size a ≤ S2x2x108x128x128.size a), (Rect.unit (s := S2x2x108x128x128) (k0_off2009 v1 k0_t51 v228 v257 k0_t54) S1x1x1x16x128.size hinb).PackedRows (EltTy.packing .bf16)) ∧
  (∀ k0_t54 : Fin (k0_t54_loop v228 v257).trips, ∀ a, (k0_off2010 v1 k0_t51 v228 v257 k0_t54) a + S1x1x1x32x128.size a ≤ S2x2x8x1728x128.size a) ∧
  (∀ k0_t54 : Fin (k0_t54_loop v228 v257).trips, ∀ a, (k0_off2012 v1 k0_t51 v228 v257 k0_t54) a + S1x1x1x16x128.size a ≤ S2x2x108x128x128.size a) ∧
  (∀ k0_t54 : Fin (k0_t54_loop v228 v257).trips, ∀ (hinb : ∀ a, (k0_off2012 v1 k0_t51 v228 v257 k0_t54) a + S1x1x1x16x128.size a ≤ S2x2x108x128x128.size a), (Rect.unit (s := S2x2x108x128x128) (k0_off2012 v1 k0_t51 v228 v257 k0_t54) S1x1x1x16x128.size hinb).PackedRows (EltTy.packing .bf16)) ∧
  (∀ k0_t54 : Fin (k0_t54_loop v228 v257).trips, ∀ a, (k0_off2014 v1 k0_t51 v228 v257 k0_t54) a + S1x1x1x16x128.size a ≤ S2x2x108x128x128.size a) ∧
  (∀ k0_t54 : Fin (k0_t54_loop v228 v257).trips, ∀ (hinb : ∀ a, (k0_off2014 v1 k0_t51 v228 v257 k0_t54) a + S1x1x1x16x128.size a ≤ S2x2x108x128x128.size a), (Rect.unit (s := S2x2x108x128x128) (k0_off2014 v1 k0_t51 v228 v257 k0_t54) S1x1x1x16x128.size hinb).PackedRows (EltTy.packing .bf16)) ∧
  (∀ k0_t54 : Fin (k0_t54_loop v228 v257).trips, ∀ a, (k0_off2015 v1 k0_t51 v228 v257 k0_t54) a + S1x1x1x32x128.size a ≤ S2x2x8x1728x128.size a) ∧
  (∀ k0_t54 : Fin (k0_t54_loop v228 v257).trips, ∀ a, (k0_off2017 v1 k0_t51 v228 v257 k0_t54) a + S1x1x1x16x128.size a ≤ S2x2x108x128x128.size a)
def k0_chk35_2 (v1 : BitVec 32) (k0_t51 : Fin (k0_t51_loop v1).trips) (v228 : BitVec 32) (v257 : BitVec 32) : Prop :=
  (∀ k0_t54 : Fin (k0_t54_loop v228 v257).trips, ∀ (hinb : ∀ a, (k0_off2017 v1 k0_t51 v228 v257 k0_t54) a + S1x1x1x16x128.size a ≤ S2x2x108x128x128.size a), (Rect.unit (s := S2x2x108x128x128) (k0_off2017 v1 k0_t51 v228 v257 k0_t54) S1x1x1x16x128.size hinb).PackedRows (EltTy.packing .bf16)) ∧
  (∀ k0_t54 : Fin (k0_t54_loop v228 v257).trips, ∀ a, (k0_off2019 v1 k0_t51 v228 v257 k0_t54) a + S1x1x1x16x128.size a ≤ S2x2x108x128x128.size a) ∧
  (∀ k0_t54 : Fin (k0_t54_loop v228 v257).trips, ∀ (hinb : ∀ a, (k0_off2019 v1 k0_t51 v228 v257 k0_t54) a + S1x1x1x16x128.size a ≤ S2x2x108x128x128.size a), (Rect.unit (s := S2x2x108x128x128) (k0_off2019 v1 k0_t51 v228 v257 k0_t54) S1x1x1x16x128.size hinb).PackedRows (EltTy.packing .bf16)) ∧
  (∀ k0_t54 : Fin (k0_t54_loop v228 v257).trips, ∀ a, (k0_off2020 v1 k0_t51 v228 v257 k0_t54) a + S1x1x1x32x128.size a ≤ S2x2x8x1728x128.size a) ∧
  (∀ k0_t54 : Fin (k0_t54_loop v228 v257).trips, ∀ a, (k0_off2022 v1 k0_t51 v228 v257 k0_t54) a + S1x1x1x16x128.size a ≤ S2x2x108x128x128.size a) ∧
  (∀ k0_t54 : Fin (k0_t54_loop v228 v257).trips, ∀ (hinb : ∀ a, (k0_off2022 v1 k0_t51 v228 v257 k0_t54) a + S1x1x1x16x128.size a ≤ S2x2x108x128x128.size a), (Rect.unit (s := S2x2x108x128x128) (k0_off2022 v1 k0_t51 v228 v257 k0_t54) S1x1x1x16x128.size hinb).PackedRows (EltTy.packing .bf16)) ∧
  (∀ k0_t54 : Fin (k0_t54_loop v228 v257).trips, ∀ a, (k0_off2024 v1 k0_t51 v228 v257 k0_t54) a + S1x1x1x16x128.size a ≤ S2x2x108x128x128.size a) ∧
  (∀ k0_t54 : Fin (k0_t54_loop v228 v257).trips, ∀ (hinb : ∀ a, (k0_off2024 v1 k0_t51 v228 v257 k0_t54) a + S1x1x1x16x128.size a ≤ S2x2x108x128x128.size a), (Rect.unit (s := S2x2x108x128x128) (k0_off2024 v1 k0_t51 v228 v257 k0_t54) S1x1x1x16x128.size hinb).PackedRows (EltTy.packing .bf16)) ∧
  (∀ k0_t54 : Fin (k0_t54_loop v228 v257).trips, ∀ a, (k0_off2025 v1 k0_t51 v228 v257 k0_t54) a + S1x1x1x32x128.size a ≤ S2x2x8x1728x128.size a) ∧
  (∀ k0_t54 : Fin (k0_t54_loop v228 v257).trips, ∀ a, (k0_off2027 v1 k0_t51 v228 v257 k0_t54) a + S1x1x1x16x128.size a ≤ S2x2x108x128x128.size a) ∧
  (∀ k0_t54 : Fin (k0_t54_loop v228 v257).trips, ∀ (hinb : ∀ a, (k0_off2027 v1 k0_t51 v228 v257 k0_t54) a + S1x1x1x16x128.size a ≤ S2x2x108x128x128.size a), (Rect.unit (s := S2x2x108x128x128) (k0_off2027 v1 k0_t51 v228 v257 k0_t54) S1x1x1x16x128.size hinb).PackedRows (EltTy.packing .bf16)) ∧
  (∀ k0_t54 : Fin (k0_t54_loop v228 v257).trips, ∀ a, (k0_off2029 v1 k0_t51 v228 v257 k0_t54) a + S1x1x1x16x128.size a ≤ S2x2x108x128x128.size a) ∧
  (∀ k0_t54 : Fin (k0_t54_loop v228 v257).trips, ∀ (hinb : ∀ a, (k0_off2029 v1 k0_t51 v228 v257 k0_t54) a + S1x1x1x16x128.size a ≤ S2x2x108x128x128.size a), (Rect.unit (s := S2x2x108x128x128) (k0_off2029 v1 k0_t51 v228 v257 k0_t54) S1x1x1x16x128.size hinb).PackedRows (EltTy.packing .bf16)) ∧
  (∀ k0_t54 : Fin (k0_t54_loop v228 v257).trips, ∀ a, (k0_off2030 v1 k0_t51 v228 v257 k0_t54) a + S1x1x1x32x128.size a ≤ S2x2x8x1728x128.size a) ∧
  (∀ k0_t54 : Fin (k0_t54_loop v228 v257).trips, ∀ a, (k0_off2032 v1 k0_t51 v228 v257 k0_t54) a + S1x1x1x16x128.size a ≤ S2x2x108x128x128.size a) ∧
  (∀ k0_t54 : Fin (k0_t54_loop v228 v257).trips, ∀ (hinb : ∀ a, (k0_off2032 v1 k0_t51 v228 v257 k0_t54) a + S1x1x1x16x128.size a ≤ S2x2x108x128x128.size a), (Rect.unit (s := S2x2x108x128x128) (k0_off2032 v1 k0_t51 v228 v257 k0_t54) S1x1x1x16x128.size hinb).PackedRows (EltTy.packing .bf16)) ∧
  (∀ k0_t54 : Fin (k0_t54_loop v228 v257).trips, ∀ a, (k0_off2034 v1 k0_t51 v228 v257 k0_t54) a + S1x1x1x16x128.size a ≤ S2x2x108x128x128.size a) ∧
  (∀ k0_t54 : Fin (k0_t54_loop v228 v257).trips, ∀ (hinb : ∀ a, (k0_off2034 v1 k0_t51 v228 v257 k0_t54) a + S1x1x1x16x128.size a ≤ S2x2x108x128x128.size a), (Rect.unit (s := S2x2x108x128x128) (k0_off2034 v1 k0_t51 v228 v257 k0_t54) S1x1x1x16x128.size hinb).PackedRows (EltTy.packing .bf16)) ∧
  (∀ k0_t54 : Fin (k0_t54_loop v228 v257).trips, ∀ a, (k0_off2035 v1 k0_t51 v228 v257 k0_t54) a + S1x1x1x32x128.size a ≤ S2x2x8x1728x128.size a) ∧
  (∀ k0_t54 : Fin (k0_t54_loop v228 v257).trips, ∀ a, (k0_off2037 v1 k0_t51 v228 v257 k0_t54) a + S1x1x1x16x128.size a ≤ S2x2x108x128x128.size a) ∧
  (∀ k0_t54 : Fin (k0_t54_loop v228 v257).trips, ∀ (hinb : ∀ a, (k0_off2037 v1 k0_t51 v228 v257 k0_t54) a + S1x1x1x16x128.size a ≤ S2x2x108x128x128.size a), (Rect.unit (s := S2x2x108x128x128) (k0_off2037 v1 k0_t51 v228 v257 k0_t54) S1x1x1x16x128.size hinb).PackedRows (EltTy.packing .bf16)) ∧
  (∀ k0_t54 : Fin (k0_t54_loop v228 v257).trips, ∀ a, (k0_off2039 v1 k0_t51 v228 v257 k0_t54) a + S1x1x1x16x128.size a ≤ S2x2x108x128x128.size a) ∧
  (∀ k0_t54 : Fin (k0_t54_loop v228 v257).trips, ∀ (hinb : ∀ a, (k0_off2039 v1 k0_t51 v228 v257 k0_t54) a + S1x1x1x16x128.size a ≤ S2x2x108x128x128.size a), (Rect.unit (s := S2x2x108x128x128) (k0_off2039 v1 k0_t51 v228 v257 k0_t54) S1x1x1x16x128.size hinb).PackedRows (EltTy.packing .bf16)) ∧
  (∀ k0_t54 : Fin (k0_t54_loop v228 v257).trips, ∀ a, (k0_off2040 v1 k0_t51 v228 v257 k0_t54) a + S1x1x1x32x128.size a ≤ S2x2x8x1728x128.size a) ∧
  (∀ k0_t54 : Fin (k0_t54_loop v228 v257).trips, ∀ a, (k0_off2042 v1 k0_t51 v228 v257 k0_t54) a + S1x1x1x16x128.size a ≤ S2x2x108x128x128.size a) ∧
  (∀ k0_t54 : Fin (k0_t54_loop v228 v257).trips, ∀ (hinb : ∀ a, (k0_off2042 v1 k0_t51 v228 v257 k0_t54) a + S1x1x1x16x128.size a ≤ S2x2x108x128x128.size a), (Rect.unit (s := S2x2x108x128x128) (k0_off2042 v1 k0_t51 v228 v257 k0_t54) S1x1x1x16x128.size hinb).PackedRows (EltTy.packing .bf16)) ∧
  (∀ k0_t54 : Fin (k0_t54_loop v228 v257).trips, ∀ a, (k0_off2044 v1 k0_t51 v228 v257 k0_t54) a + S1x1x1x16x128.size a ≤ S2x2x108x128x128.size a) ∧
  (∀ k0_t54 : Fin (k0_t54_loop v228 v257).trips, ∀ (hinb : ∀ a, (k0_off2044 v1 k0_t51 v228 v257 k0_t54) a + S1x1x1x16x128.size a ≤ S2x2x108x128x128.size a), (Rect.unit (s := S2x2x108x128x128) (k0_off2044 v1 k0_t51 v228 v257 k0_t54) S1x1x1x16x128.size hinb).PackedRows (EltTy.packing .bf16)) ∧
  (∀ k0_t54 : Fin (k0_t54_loop v228 v257).trips, ∀ a, (k0_off2045 v1 k0_t51 v228 v257 k0_t54) a + S1x1x1x32x128.size a ≤ S2x2x8x1728x128.size a) ∧
  (∀ k0_t54 : Fin (k0_t54_loop v228 v257).trips, ∀ a, (k0_off2047 v1 k0_t51 v228 v257 k0_t54) a + S1x1x1x16x128.size a ≤ S2x2x108x128x128.size a) ∧
  (∀ k0_t54 : Fin (k0_t54_loop v228 v257).trips, ∀ (hinb : ∀ a, (k0_off2047 v1 k0_t51 v228 v257 k0_t54) a + S1x1x1x16x128.size a ≤ S2x2x108x128x128.size a), (Rect.unit (s := S2x2x108x128x128) (k0_off2047 v1 k0_t51 v228 v257 k0_t54) S1x1x1x16x128.size hinb).PackedRows (EltTy.packing .bf16)) ∧
  (∀ k0_t54 : Fin (k0_t54_loop v228 v257).trips, ∀ a, (k0_off2049 v1 k0_t51 v228 v257 k0_t54) a + S1x1x1x16x128.size a ≤ S2x2x108x128x128.size a)
def k0_chk35_3 (v1 : BitVec 32) (k0_t51 : Fin (k0_t51_loop v1).trips) (v228 : BitVec 32) (v257 : BitVec 32) : Prop :=
  (∀ k0_t54 : Fin (k0_t54_loop v228 v257).trips, ∀ (hinb : ∀ a, (k0_off2049 v1 k0_t51 v228 v257 k0_t54) a + S1x1x1x16x128.size a ≤ S2x2x108x128x128.size a), (Rect.unit (s := S2x2x108x128x128) (k0_off2049 v1 k0_t51 v228 v257 k0_t54) S1x1x1x16x128.size hinb).PackedRows (EltTy.packing .bf16)) ∧
  (∀ k0_t54 : Fin (k0_t54_loop v228 v257).trips, ∀ a, (k0_off2050 v1 k0_t51 v228 v257 k0_t54) a + S1x1x1x32x128.size a ≤ S2x2x8x1728x128.size a) ∧
  (∀ k0_t54 : Fin (k0_t54_loop v228 v257).trips, ∀ a, (k0_off2052 v1 k0_t51 v228 v257 k0_t54) a + S1x1x1x16x128.size a ≤ S2x2x108x128x128.size a) ∧
  (∀ k0_t54 : Fin (k0_t54_loop v228 v257).trips, ∀ (hinb : ∀ a, (k0_off2052 v1 k0_t51 v228 v257 k0_t54) a + S1x1x1x16x128.size a ≤ S2x2x108x128x128.size a), (Rect.unit (s := S2x2x108x128x128) (k0_off2052 v1 k0_t51 v228 v257 k0_t54) S1x1x1x16x128.size hinb).PackedRows (EltTy.packing .bf16)) ∧
  (∀ k0_t54 : Fin (k0_t54_loop v228 v257).trips, ∀ a, (k0_off2054 v1 k0_t51 v228 v257 k0_t54) a + S1x1x1x16x128.size a ≤ S2x2x108x128x128.size a) ∧
  (∀ k0_t54 : Fin (k0_t54_loop v228 v257).trips, ∀ (hinb : ∀ a, (k0_off2054 v1 k0_t51 v228 v257 k0_t54) a + S1x1x1x16x128.size a ≤ S2x2x108x128x128.size a), (Rect.unit (s := S2x2x108x128x128) (k0_off2054 v1 k0_t51 v228 v257 k0_t54) S1x1x1x16x128.size hinb).PackedRows (EltTy.packing .bf16)) ∧
  (∀ k0_t54 : Fin (k0_t54_loop v228 v257).trips, ∀ a, (k0_off2055 v1 k0_t51 v228 v257 k0_t54) a + S1x1x1x32x128.size a ≤ S2x2x8x1728x128.size a) ∧
  (∀ k0_t54 : Fin (k0_t54_loop v228 v257).trips, ∀ a, (k0_off2057 v1 k0_t51 v228 v257 k0_t54) a + S1x1x1x16x128.size a ≤ S2x2x108x128x128.size a) ∧
  (∀ k0_t54 : Fin (k0_t54_loop v228 v257).trips, ∀ (hinb : ∀ a, (k0_off2057 v1 k0_t51 v228 v257 k0_t54) a + S1x1x1x16x128.size a ≤ S2x2x108x128x128.size a), (Rect.unit (s := S2x2x108x128x128) (k0_off2057 v1 k0_t51 v228 v257 k0_t54) S1x1x1x16x128.size hinb).PackedRows (EltTy.packing .bf16)) ∧
  (∀ k0_t54 : Fin (k0_t54_loop v228 v257).trips, ∀ a, (k0_off2059 v1 k0_t51 v228 v257 k0_t54) a + S1x1x1x16x128.size a ≤ S2x2x108x128x128.size a) ∧
  (∀ k0_t54 : Fin (k0_t54_loop v228 v257).trips, ∀ (hinb : ∀ a, (k0_off2059 v1 k0_t51 v228 v257 k0_t54) a + S1x1x1x16x128.size a ≤ S2x2x108x128x128.size a), (Rect.unit (s := S2x2x108x128x128) (k0_off2059 v1 k0_t51 v228 v257 k0_t54) S1x1x1x16x128.size hinb).PackedRows (EltTy.packing .bf16)) ∧
  (∀ k0_t54 : Fin (k0_t54_loop v228 v257).trips, ∀ a, (k0_off2060 v1 k0_t51 v228 v257 k0_t54) a + S1x1x1x32x128.size a ≤ S2x2x8x1728x128.size a) ∧
  (∀ k0_t54 : Fin (k0_t54_loop v228 v257).trips, ∀ a, (k0_off2062 v1 k0_t51 v228 v257 k0_t54) a + S1x1x1x16x128.size a ≤ S2x2x108x128x128.size a) ∧
  (∀ k0_t54 : Fin (k0_t54_loop v228 v257).trips, ∀ (hinb : ∀ a, (k0_off2062 v1 k0_t51 v228 v257 k0_t54) a + S1x1x1x16x128.size a ≤ S2x2x108x128x128.size a), (Rect.unit (s := S2x2x108x128x128) (k0_off2062 v1 k0_t51 v228 v257 k0_t54) S1x1x1x16x128.size hinb).PackedRows (EltTy.packing .bf16)) ∧
  (∀ k0_t54 : Fin (k0_t54_loop v228 v257).trips, ∀ a, (k0_off2064 v1 k0_t51 v228 v257 k0_t54) a + S1x1x1x16x128.size a ≤ S2x2x108x128x128.size a) ∧
  (∀ k0_t54 : Fin (k0_t54_loop v228 v257).trips, ∀ (hinb : ∀ a, (k0_off2064 v1 k0_t51 v228 v257 k0_t54) a + S1x1x1x16x128.size a ≤ S2x2x108x128x128.size a), (Rect.unit (s := S2x2x108x128x128) (k0_off2064 v1 k0_t51 v228 v257 k0_t54) S1x1x1x16x128.size hinb).PackedRows (EltTy.packing .bf16)) ∧
  (∀ k0_t54 : Fin (k0_t54_loop v228 v257).trips, ∀ a, (k0_off2065 v1 k0_t51 v228 v257 k0_t54) a + S1x1x1x32x128.size a ≤ S2x2x8x1728x128.size a) ∧
  (∀ k0_t54 : Fin (k0_t54_loop v228 v257).trips, ∀ a, (k0_off2067 v1 k0_t51 v228 v257 k0_t54) a + S1x1x1x16x128.size a ≤ S2x2x108x128x128.size a) ∧
  (∀ k0_t54 : Fin (k0_t54_loop v228 v257).trips, ∀ (hinb : ∀ a, (k0_off2067 v1 k0_t51 v228 v257 k0_t54) a + S1x1x1x16x128.size a ≤ S2x2x108x128x128.size a), (Rect.unit (s := S2x2x108x128x128) (k0_off2067 v1 k0_t51 v228 v257 k0_t54) S1x1x1x16x128.size hinb).PackedRows (EltTy.packing .bf16)) ∧
  (∀ k0_t54 : Fin (k0_t54_loop v228 v257).trips, ∀ a, (k0_off2069 v1 k0_t51 v228 v257 k0_t54) a + S1x1x1x16x128.size a ≤ S2x2x108x128x128.size a) ∧
  (∀ k0_t54 : Fin (k0_t54_loop v228 v257).trips, ∀ (hinb : ∀ a, (k0_off2069 v1 k0_t51 v228 v257 k0_t54) a + S1x1x1x16x128.size a ≤ S2x2x108x128x128.size a), (Rect.unit (s := S2x2x108x128x128) (k0_off2069 v1 k0_t51 v228 v257 k0_t54) S1x1x1x16x128.size hinb).PackedRows (EltTy.packing .bf16)) ∧
  (∀ k0_t54 : Fin (k0_t54_loop v228 v257).trips, ∀ a, (k0_off2070 v1 k0_t51 v228 v257 k0_t54) a + S1x1x1x32x128.size a ≤ S2x2x8x1728x128.size a) ∧
  (∀ k0_t54 : Fin (k0_t54_loop v228 v257).trips, ∀ a, (k0_off2072 v1 k0_t51 v228 v257 k0_t54) a + S1x1x1x16x128.size a ≤ S2x2x108x128x128.size a) ∧
  (∀ k0_t54 : Fin (k0_t54_loop v228 v257).trips, ∀ (hinb : ∀ a, (k0_off2072 v1 k0_t51 v228 v257 k0_t54) a + S1x1x1x16x128.size a ≤ S2x2x108x128x128.size a), (Rect.unit (s := S2x2x108x128x128) (k0_off2072 v1 k0_t51 v228 v257 k0_t54) S1x1x1x16x128.size hinb).PackedRows (EltTy.packing .bf16)) ∧
  (∀ k0_t54 : Fin (k0_t54_loop v228 v257).trips, ∀ a, (k0_off2074 v1 k0_t51 v228 v257 k0_t54) a + S1x1x1x16x128.size a ≤ S2x2x108x128x128.size a) ∧
  (∀ k0_t54 : Fin (k0_t54_loop v228 v257).trips, ∀ (hinb : ∀ a, (k0_off2074 v1 k0_t51 v228 v257 k0_t54) a + S1x1x1x16x128.size a ≤ S2x2x108x128x128.size a), (Rect.unit (s := S2x2x108x128x128) (k0_off2074 v1 k0_t51 v228 v257 k0_t54) S1x1x1x16x128.size hinb).PackedRows (EltTy.packing .bf16)) ∧
  (∀ k0_t54 : Fin (k0_t54_loop v228 v257).trips, ∀ a, (k0_off2075 v1 k0_t51 v228 v257 k0_t54) a + S1x1x1x32x128.size a ≤ S2x2x8x1728x128.size a) ∧
  (∀ k0_t54 : Fin (k0_t54_loop v228 v257).trips, ∀ a, (k0_off2077 v1 k0_t51 v228 v257 k0_t54) a + S1x1x1x16x128.size a ≤ S2x2x108x128x128.size a) ∧
  (∀ k0_t54 : Fin (k0_t54_loop v228 v257).trips, ∀ (hinb : ∀ a, (k0_off2077 v1 k0_t51 v228 v257 k0_t54) a + S1x1x1x16x128.size a ≤ S2x2x108x128x128.size a), (Rect.unit (s := S2x2x108x128x128) (k0_off2077 v1 k0_t51 v228 v257 k0_t54) S1x1x1x16x128.size hinb).PackedRows (EltTy.packing .bf16)) ∧
  (∀ k0_t54 : Fin (k0_t54_loop v228 v257).trips, ∀ a, (k0_off2079 v1 k0_t51 v228 v257 k0_t54) a + S1x1x1x16x128.size a ≤ S2x2x108x128x128.size a) ∧
  (∀ k0_t54 : Fin (k0_t54_loop v228 v257).trips, ∀ (hinb : ∀ a, (k0_off2079 v1 k0_t51 v228 v257 k0_t54) a + S1x1x1x16x128.size a ≤ S2x2x108x128x128.size a), (Rect.unit (s := S2x2x108x128x128) (k0_off2079 v1 k0_t51 v228 v257 k0_t54) S1x1x1x16x128.size hinb).PackedRows (EltTy.packing .bf16)) ∧
  (∀ k0_t54 : Fin (k0_t54_loop v228 v257).trips, ∀ a, (k0_off2080 v1 k0_t51 v228 v257 k0_t54) a + S1x1x1x32x128.size a ≤ S2x2x8x1728x128.size a)
def k0_chk35_4 (v1 : BitVec 32) (k0_t51 : Fin (k0_t51_loop v1).trips) (v228 : BitVec 32) (v257 : BitVec 32) : Prop :=
  (∀ k0_t54 : Fin (k0_t54_loop v228 v257).trips, ∀ a, (k0_off2082 v1 k0_t51 v228 v257 k0_t54) a + S1x1x1x16x128.size a ≤ S2x2x108x128x128.size a) ∧
  (∀ k0_t54 : Fin (k0_t54_loop v228 v257).trips, ∀ (hinb : ∀ a, (k0_off2082 v1 k0_t51 v228 v257 k0_t54) a + S1x1x1x16x128.size a ≤ S2x2x108x128x128.size a), (Rect.unit (s := S2x2x108x128x128) (k0_off2082 v1 k0_t51 v228 v257 k0_t54) S1x1x1x16x128.size hinb).PackedRows (EltTy.packing .bf16)) ∧
  (∀ k0_t54 : Fin (k0_t54_loop v228 v257).trips, ∀ a, (k0_off2084 v1 k0_t51 v228 v257 k0_t54) a + S1x1x1x16x128.size a ≤ S2x2x108x128x128.size a) ∧
  (∀ k0_t54 : Fin (k0_t54_loop v228 v257).trips, ∀ (hinb : ∀ a, (k0_off2084 v1 k0_t51 v228 v257 k0_t54) a + S1x1x1x16x128.size a ≤ S2x2x108x128x128.size a), (Rect.unit (s := S2x2x108x128x128) (k0_off2084 v1 k0_t51 v228 v257 k0_t54) S1x1x1x16x128.size hinb).PackedRows (EltTy.packing .bf16)) ∧
  (∀ k0_t54 : Fin (k0_t54_loop v228 v257).trips, ∀ a, (k0_off2085 v1 k0_t51 v228 v257 k0_t54) a + S1x1x1x32x128.size a ≤ S2x2x8x1728x128.size a) ∧
  (∀ k0_t54 : Fin (k0_t54_loop v228 v257).trips, ∀ a, (k0_off2087 v1 k0_t51 v228 v257 k0_t54) a + S1x1x1x16x128.size a ≤ S2x2x108x128x128.size a) ∧
  (∀ k0_t54 : Fin (k0_t54_loop v228 v257).trips, ∀ (hinb : ∀ a, (k0_off2087 v1 k0_t51 v228 v257 k0_t54) a + S1x1x1x16x128.size a ≤ S2x2x108x128x128.size a), (Rect.unit (s := S2x2x108x128x128) (k0_off2087 v1 k0_t51 v228 v257 k0_t54) S1x1x1x16x128.size hinb).PackedRows (EltTy.packing .bf16)) ∧
  (∀ k0_t54 : Fin (k0_t54_loop v228 v257).trips, ∀ a, (k0_off2089 v1 k0_t51 v228 v257 k0_t54) a + S1x1x1x16x128.size a ≤ S2x2x108x128x128.size a) ∧
  (∀ k0_t54 : Fin (k0_t54_loop v228 v257).trips, ∀ (hinb : ∀ a, (k0_off2089 v1 k0_t51 v228 v257 k0_t54) a + S1x1x1x16x128.size a ≤ S2x2x108x128x128.size a), (Rect.unit (s := S2x2x108x128x128) (k0_off2089 v1 k0_t51 v228 v257 k0_t54) S1x1x1x16x128.size hinb).PackedRows (EltTy.packing .bf16)) ∧
  (∀ k0_t54 : Fin (k0_t54_loop v228 v257).trips, ∀ a, (k0_off2090 v1 k0_t51 v228 v257 k0_t54) a + S1x1x1x32x128.size a ≤ S2x2x8x1728x128.size a) ∧
  (∀ k0_t54 : Fin (k0_t54_loop v228 v257).trips, ∀ a, (k0_off2092 v1 k0_t51 v228 v257 k0_t54) a + S1x1x1x16x128.size a ≤ S2x2x108x128x128.size a) ∧
  (∀ k0_t54 : Fin (k0_t54_loop v228 v257).trips, ∀ (hinb : ∀ a, (k0_off2092 v1 k0_t51 v228 v257 k0_t54) a + S1x1x1x16x128.size a ≤ S2x2x108x128x128.size a), (Rect.unit (s := S2x2x108x128x128) (k0_off2092 v1 k0_t51 v228 v257 k0_t54) S1x1x1x16x128.size hinb).PackedRows (EltTy.packing .bf16)) ∧
  (∀ k0_t54 : Fin (k0_t54_loop v228 v257).trips, ∀ a, (k0_off2094 v1 k0_t51 v228 v257 k0_t54) a + S1x1x1x16x128.size a ≤ S2x2x108x128x128.size a) ∧
  (∀ k0_t54 : Fin (k0_t54_loop v228 v257).trips, ∀ (hinb : ∀ a, (k0_off2094 v1 k0_t51 v228 v257 k0_t54) a + S1x1x1x16x128.size a ≤ S2x2x108x128x128.size a), (Rect.unit (s := S2x2x108x128x128) (k0_off2094 v1 k0_t51 v228 v257 k0_t54) S1x1x1x16x128.size hinb).PackedRows (EltTy.packing .bf16)) ∧
  (∀ k0_t54 : Fin (k0_t54_loop v228 v257).trips, ∀ a, (k0_off2095 v1 k0_t51 v228 v257 k0_t54) a + S1x1x1x32x128.size a ≤ S2x2x8x1728x128.size a) ∧
  (∀ k0_t54 : Fin (k0_t54_loop v228 v257).trips, ∀ a, (k0_off2097 v1 k0_t51 v228 v257 k0_t54) a + S1x1x1x16x128.size a ≤ S2x2x108x128x128.size a) ∧
  (∀ k0_t54 : Fin (k0_t54_loop v228 v257).trips, ∀ (hinb : ∀ a, (k0_off2097 v1 k0_t51 v228 v257 k0_t54) a + S1x1x1x16x128.size a ≤ S2x2x108x128x128.size a), (Rect.unit (s := S2x2x108x128x128) (k0_off2097 v1 k0_t51 v228 v257 k0_t54) S1x1x1x16x128.size hinb).PackedRows (EltTy.packing .bf16)) ∧
  (∀ k0_t54 : Fin (k0_t54_loop v228 v257).trips, ∀ a, (k0_off2099 v1 k0_t51 v228 v257 k0_t54) a + S1x1x1x16x128.size a ≤ S2x2x108x128x128.size a) ∧
  (∀ k0_t54 : Fin (k0_t54_loop v228 v257).trips, ∀ (hinb : ∀ a, (k0_off2099 v1 k0_t51 v228 v257 k0_t54) a + S1x1x1x16x128.size a ≤ S2x2x108x128x128.size a), (Rect.unit (s := S2x2x108x128x128) (k0_off2099 v1 k0_t51 v228 v257 k0_t54) S1x1x1x16x128.size hinb).PackedRows (EltTy.packing .bf16)) ∧
  (∀ k0_t54 : Fin (k0_t54_loop v228 v257).trips, ∀ a, (k0_off2100 v1 k0_t51 v228 v257 k0_t54) a + S1x1x1x32x128.size a ≤ S2x2x8x1728x128.size a) ∧
  (∀ k0_t54 : Fin (k0_t54_loop v228 v257).trips, ∀ a, (k0_off2102 v1 k0_t51 v228 v257 k0_t54) a + S1x1x1x16x128.size a ≤ S2x2x108x128x128.size a) ∧
  (∀ k0_t54 : Fin (k0_t54_loop v228 v257).trips, ∀ (hinb : ∀ a, (k0_off2102 v1 k0_t51 v228 v257 k0_t54) a + S1x1x1x16x128.size a ≤ S2x2x108x128x128.size a), (Rect.unit (s := S2x2x108x128x128) (k0_off2102 v1 k0_t51 v228 v257 k0_t54) S1x1x1x16x128.size hinb).PackedRows (EltTy.packing .bf16)) ∧
  (∀ k0_t54 : Fin (k0_t54_loop v228 v257).trips, ∀ a, (k0_off2104 v1 k0_t51 v228 v257 k0_t54) a + S1x1x1x16x128.size a ≤ S2x2x108x128x128.size a) ∧
  (∀ k0_t54 : Fin (k0_t54_loop v228 v257).trips, ∀ (hinb : ∀ a, (k0_off2104 v1 k0_t51 v228 v257 k0_t54) a + S1x1x1x16x128.size a ≤ S2x2x108x128x128.size a), (Rect.unit (s := S2x2x108x128x128) (k0_off2104 v1 k0_t51 v228 v257 k0_t54) S1x1x1x16x128.size hinb).PackedRows (EltTy.packing .bf16)) ∧
  (∀ k0_t54 : Fin (k0_t54_loop v228 v257).trips, ∀ a, (k0_off2105 v1 k0_t51 v228 v257 k0_t54) a + S1x1x1x32x128.size a ≤ S2x2x8x1728x128.size a) ∧
  (∀ k0_t54 : Fin (k0_t54_loop v228 v257).trips, ∀ a, (k0_off2107 v1 k0_t51 v228 v257 k0_t54) a + S1x1x1x16x128.size a ≤ S2x2x108x128x128.size a) ∧
  (∀ k0_t54 : Fin (k0_t54_loop v228 v257).trips, ∀ (hinb : ∀ a, (k0_off2107 v1 k0_t51 v228 v257 k0_t54) a + S1x1x1x16x128.size a ≤ S2x2x108x128x128.size a), (Rect.unit (s := S2x2x108x128x128) (k0_off2107 v1 k0_t51 v228 v257 k0_t54) S1x1x1x16x128.size hinb).PackedRows (EltTy.packing .bf16)) ∧
  (∀ k0_t54 : Fin (k0_t54_loop v228 v257).trips, ∀ a, (k0_off2109 v1 k0_t51 v228 v257 k0_t54) a + S1x1x1x16x128.size a ≤ S2x2x108x128x128.size a) ∧
  (∀ k0_t54 : Fin (k0_t54_loop v228 v257).trips, ∀ (hinb : ∀ a, (k0_off2109 v1 k0_t51 v228 v257 k0_t54) a + S1x1x1x16x128.size a ≤ S2x2x108x128x128.size a), (Rect.unit (s := S2x2x108x128x128) (k0_off2109 v1 k0_t51 v228 v257 k0_t54) S1x1x1x16x128.size hinb).PackedRows (EltTy.packing .bf16)) ∧
  (∀ k0_t54 : Fin (k0_t54_loop v228 v257).trips, ∀ a, (k0_off2110 v1 k0_t51 v228 v257 k0_t54) a + S1x1x1x32x128.size a ≤ S2x2x8x1728x128.size a) ∧
  (∀ k0_t54 : Fin (k0_t54_loop v228 v257).trips, ∀ a, (k0_off2112 v1 k0_t51 v228 v257 k0_t54) a + S1x1x1x16x128.size a ≤ S2x2x108x128x128.size a) ∧
  (∀ k0_t54 : Fin (k0_t54_loop v228 v257).trips, ∀ (hinb : ∀ a, (k0_off2112 v1 k0_t51 v228 v257 k0_t54) a + S1x1x1x16x128.size a ≤ S2x2x108x128x128.size a), (Rect.unit (s := S2x2x108x128x128) (k0_off2112 v1 k0_t51 v228 v257 k0_t54) S1x1x1x16x128.size hinb).PackedRows (EltTy.packing .bf16))
def k0_chk35_5 (v1 : BitVec 32) (k0_t51 : Fin (k0_t51_loop v1).trips) (v228 : BitVec 32) (v257 : BitVec 32) : Prop :=
  (∀ k0_t54 : Fin (k0_t54_loop v228 v257).trips, ∀ a, (k0_off2114 v1 k0_t51 v228 v257 k0_t54) a + S1x1x1x16x128.size a ≤ S2x2x108x128x128.size a) ∧
  (∀ k0_t54 : Fin (k0_t54_loop v228 v257).trips, ∀ (hinb : ∀ a, (k0_off2114 v1 k0_t51 v228 v257 k0_t54) a + S1x1x1x16x128.size a ≤ S2x2x108x128x128.size a), (Rect.unit (s := S2x2x108x128x128) (k0_off2114 v1 k0_t51 v228 v257 k0_t54) S1x1x1x16x128.size hinb).PackedRows (EltTy.packing .bf16)) ∧
  (∀ k0_t54 : Fin (k0_t54_loop v228 v257).trips, ∀ a, (k0_off2115 v1 k0_t51 v228 v257 k0_t54) a + S1x1x1x32x128.size a ≤ S2x2x8x1728x128.size a) ∧
  (∀ k0_t54 : Fin (k0_t54_loop v228 v257).trips, ∀ a, (k0_off2117 v1 k0_t51 v228 v257 k0_t54) a + S1x1x1x16x128.size a ≤ S2x2x108x128x128.size a) ∧
  (∀ k0_t54 : Fin (k0_t54_loop v228 v257).trips, ∀ (hinb : ∀ a, (k0_off2117 v1 k0_t51 v228 v257 k0_t54) a + S1x1x1x16x128.size a ≤ S2x2x108x128x128.size a), (Rect.unit (s := S2x2x108x128x128) (k0_off2117 v1 k0_t51 v228 v257 k0_t54) S1x1x1x16x128.size hinb).PackedRows (EltTy.packing .bf16)) ∧
  (∀ k0_t54 : Fin (k0_t54_loop v228 v257).trips, ∀ a, (k0_off2119 v1 k0_t51 v228 v257 k0_t54) a + S1x1x1x16x128.size a ≤ S2x2x108x128x128.size a) ∧
  (∀ k0_t54 : Fin (k0_t54_loop v228 v257).trips, ∀ (hinb : ∀ a, (k0_off2119 v1 k0_t51 v228 v257 k0_t54) a + S1x1x1x16x128.size a ≤ S2x2x108x128x128.size a), (Rect.unit (s := S2x2x108x128x128) (k0_off2119 v1 k0_t51 v228 v257 k0_t54) S1x1x1x16x128.size hinb).PackedRows (EltTy.packing .bf16)) ∧
  (∀ k0_t54 : Fin (k0_t54_loop v228 v257).trips, ∀ a, (k0_off2120 v1 k0_t51 v228 v257 k0_t54) a + S1x1x1x32x128.size a ≤ S2x2x8x1728x128.size a) ∧
  (∀ k0_t54 : Fin (k0_t54_loop v228 v257).trips, ∀ a, (k0_off2122 v1 k0_t51 v228 v257 k0_t54) a + S1x1x1x16x128.size a ≤ S2x2x108x128x128.size a) ∧
  (∀ k0_t54 : Fin (k0_t54_loop v228 v257).trips, ∀ (hinb : ∀ a, (k0_off2122 v1 k0_t51 v228 v257 k0_t54) a + S1x1x1x16x128.size a ≤ S2x2x108x128x128.size a), (Rect.unit (s := S2x2x108x128x128) (k0_off2122 v1 k0_t51 v228 v257 k0_t54) S1x1x1x16x128.size hinb).PackedRows (EltTy.packing .bf16)) ∧
  (∀ k0_t54 : Fin (k0_t54_loop v228 v257).trips, ∀ a, (k0_off2124 v1 k0_t51 v228 v257 k0_t54) a + S1x1x1x16x128.size a ≤ S2x2x108x128x128.size a) ∧
  (∀ k0_t54 : Fin (k0_t54_loop v228 v257).trips, ∀ (hinb : ∀ a, (k0_off2124 v1 k0_t51 v228 v257 k0_t54) a + S1x1x1x16x128.size a ≤ S2x2x108x128x128.size a), (Rect.unit (s := S2x2x108x128x128) (k0_off2124 v1 k0_t51 v228 v257 k0_t54) S1x1x1x16x128.size hinb).PackedRows (EltTy.packing .bf16)) ∧
  (∀ k0_t54 : Fin (k0_t54_loop v228 v257).trips, ∀ a, (k0_off2125 v1 k0_t51 v228 v257 k0_t54) a + S1x1x1x32x128.size a ≤ S2x2x8x1728x128.size a) ∧
  (∀ k0_t54 : Fin (k0_t54_loop v228 v257).trips, ∀ a, (k0_off2127 v1 k0_t51 v228 v257 k0_t54) a + S1x1x1x16x128.size a ≤ S2x2x108x128x128.size a) ∧
  (∀ k0_t54 : Fin (k0_t54_loop v228 v257).trips, ∀ (hinb : ∀ a, (k0_off2127 v1 k0_t51 v228 v257 k0_t54) a + S1x1x1x16x128.size a ≤ S2x2x108x128x128.size a), (Rect.unit (s := S2x2x108x128x128) (k0_off2127 v1 k0_t51 v228 v257 k0_t54) S1x1x1x16x128.size hinb).PackedRows (EltTy.packing .bf16)) ∧
  (∀ k0_t54 : Fin (k0_t54_loop v228 v257).trips, ∀ a, (k0_off2129 v1 k0_t51 v228 v257 k0_t54) a + S1x1x1x16x128.size a ≤ S2x2x108x128x128.size a) ∧
  (∀ k0_t54 : Fin (k0_t54_loop v228 v257).trips, ∀ (hinb : ∀ a, (k0_off2129 v1 k0_t51 v228 v257 k0_t54) a + S1x1x1x16x128.size a ≤ S2x2x108x128x128.size a), (Rect.unit (s := S2x2x108x128x128) (k0_off2129 v1 k0_t51 v228 v257 k0_t54) S1x1x1x16x128.size hinb).PackedRows (EltTy.packing .bf16)) ∧
  (∀ k0_t54 : Fin (k0_t54_loop v228 v257).trips, ∀ a, (k0_off2130 v1 k0_t51 v228 v257 k0_t54) a + S1x1x1x32x128.size a ≤ S2x2x8x1728x128.size a) ∧
  (∀ k0_t54 : Fin (k0_t54_loop v228 v257).trips, ∀ a, (k0_off2132 v1 k0_t51 v228 v257 k0_t54) a + S1x1x1x16x128.size a ≤ S2x2x108x128x128.size a) ∧
  (∀ k0_t54 : Fin (k0_t54_loop v228 v257).trips, ∀ (hinb : ∀ a, (k0_off2132 v1 k0_t51 v228 v257 k0_t54) a + S1x1x1x16x128.size a ≤ S2x2x108x128x128.size a), (Rect.unit (s := S2x2x108x128x128) (k0_off2132 v1 k0_t51 v228 v257 k0_t54) S1x1x1x16x128.size hinb).PackedRows (EltTy.packing .bf16)) ∧
  (∀ k0_t54 : Fin (k0_t54_loop v228 v257).trips, ∀ a, (k0_off2134 v1 k0_t51 v228 v257 k0_t54) a + S1x1x1x16x128.size a ≤ S2x2x108x128x128.size a) ∧
  (∀ k0_t54 : Fin (k0_t54_loop v228 v257).trips, ∀ (hinb : ∀ a, (k0_off2134 v1 k0_t51 v228 v257 k0_t54) a + S1x1x1x16x128.size a ≤ S2x2x108x128x128.size a), (Rect.unit (s := S2x2x108x128x128) (k0_off2134 v1 k0_t51 v228 v257 k0_t54) S1x1x1x16x128.size hinb).PackedRows (EltTy.packing .bf16)) ∧
  (∀ k0_t54 : Fin (k0_t54_loop v228 v257).trips, ∀ a, (k0_off2135 v1 k0_t51 v228 v257 k0_t54) a + S1x1x1x32x128.size a ≤ S2x2x8x1728x128.size a) ∧
  (∀ k0_t54 : Fin (k0_t54_loop v228 v257).trips, ∀ a, (k0_off2137 v1 k0_t51 v228 v257 k0_t54) a + S1x1x1x16x128.size a ≤ S2x2x108x128x128.size a) ∧
  (∀ k0_t54 : Fin (k0_t54_loop v228 v257).trips, ∀ (hinb : ∀ a, (k0_off2137 v1 k0_t51 v228 v257 k0_t54) a + S1x1x1x16x128.size a ≤ S2x2x108x128x128.size a), (Rect.unit (s := S2x2x108x128x128) (k0_off2137 v1 k0_t51 v228 v257 k0_t54) S1x1x1x16x128.size hinb).PackedRows (EltTy.packing .bf16)) ∧
  (∀ k0_t54 : Fin (k0_t54_loop v228 v257).trips, ∀ a, (k0_off2139 v1 k0_t51 v228 v257 k0_t54) a + S1x1x1x16x128.size a ≤ S2x2x108x128x128.size a) ∧
  (∀ k0_t54 : Fin (k0_t54_loop v228 v257).trips, ∀ (hinb : ∀ a, (k0_off2139 v1 k0_t51 v228 v257 k0_t54) a + S1x1x1x16x128.size a ≤ S2x2x108x128x128.size a), (Rect.unit (s := S2x2x108x128x128) (k0_off2139 v1 k0_t51 v228 v257 k0_t54) S1x1x1x16x128.size hinb).PackedRows (EltTy.packing .bf16)) ∧
  (∀ k0_t54 : Fin (k0_t54_loop v228 v257).trips, ∀ a, (k0_off2140 v1 k0_t51 v228 v257 k0_t54) a + S1x1x1x32x128.size a ≤ S2x2x8x1728x128.size a) ∧
  (∀ k0_t54 : Fin (k0_t54_loop v228 v257).trips, ∀ a, (k0_off2142 v1 k0_t51 v228 v257 k0_t54) a + S1x1x1x16x128.size a ≤ S2x2x108x128x128.size a) ∧
  (∀ k0_t54 : Fin (k0_t54_loop v228 v257).trips, ∀ (hinb : ∀ a, (k0_off2142 v1 k0_t51 v228 v257 k0_t54) a + S1x1x1x16x128.size a ≤ S2x2x108x128x128.size a), (Rect.unit (s := S2x2x108x128x128) (k0_off2142 v1 k0_t51 v228 v257 k0_t54) S1x1x1x16x128.size hinb).PackedRows (EltTy.packing .bf16)) ∧
  (∀ k0_t54 : Fin (k0_t54_loop v228 v257).trips, ∀ a, (k0_off2144 v1 k0_t51 v228 v257 k0_t54) a + S1x1x1x16x128.size a ≤ S2x2x108x128x128.size a) ∧
  (∀ k0_t54 : Fin (k0_t54_loop v228 v257).trips, ∀ (hinb : ∀ a, (k0_off2144 v1 k0_t51 v228 v257 k0_t54) a + S1x1x1x16x128.size a ≤ S2x2x108x128x128.size a), (Rect.unit (s := S2x2x108x128x128) (k0_off2144 v1 k0_t51 v228 v257 k0_t54) S1x1x1x16x128.size hinb).PackedRows (EltTy.packing .bf16))
def k0_chk35_6 (v1 : BitVec 32) (k0_t51 : Fin (k0_t51_loop v1).trips) (v228 : BitVec 32) (v257 : BitVec 32) : Prop :=
  (∀ k0_t54 : Fin (k0_t54_loop v228 v257).trips, ∀ a, (k0_off2145 v1 k0_t51 v228 v257 k0_t54) a + S1x1x1x32x128.size a ≤ S2x2x8x1728x128.size a) ∧
  (∀ k0_t54 : Fin (k0_t54_loop v228 v257).trips, ∀ a, (k0_off2147 v1 k0_t51 v228 v257 k0_t54) a + S1x1x1x16x128.size a ≤ S2x2x108x128x128.size a) ∧
  (∀ k0_t54 : Fin (k0_t54_loop v228 v257).trips, ∀ (hinb : ∀ a, (k0_off2147 v1 k0_t51 v228 v257 k0_t54) a + S1x1x1x16x128.size a ≤ S2x2x108x128x128.size a), (Rect.unit (s := S2x2x108x128x128) (k0_off2147 v1 k0_t51 v228 v257 k0_t54) S1x1x1x16x128.size hinb).PackedRows (EltTy.packing .bf16)) ∧
  (∀ k0_t54 : Fin (k0_t54_loop v228 v257).trips, ∀ a, (k0_off2149 v1 k0_t51 v228 v257 k0_t54) a + S1x1x1x16x128.size a ≤ S2x2x108x128x128.size a) ∧
  (∀ k0_t54 : Fin (k0_t54_loop v228 v257).trips, ∀ (hinb : ∀ a, (k0_off2149 v1 k0_t51 v228 v257 k0_t54) a + S1x1x1x16x128.size a ≤ S2x2x108x128x128.size a), (Rect.unit (s := S2x2x108x128x128) (k0_off2149 v1 k0_t51 v228 v257 k0_t54) S1x1x1x16x128.size hinb).PackedRows (EltTy.packing .bf16)) ∧
  (∀ k0_t54 : Fin (k0_t54_loop v228 v257).trips, ∀ a, (k0_off2150 v1 k0_t51 v228 v257 k0_t54) a + S1x1x1x32x128.size a ≤ S2x2x8x1728x128.size a) ∧
  (∀ k0_t54 : Fin (k0_t54_loop v228 v257).trips, ∀ a, (k0_off2152 v1 k0_t51 v228 v257 k0_t54) a + S1x1x1x16x128.size a ≤ S2x2x108x128x128.size a) ∧
  (∀ k0_t54 : Fin (k0_t54_loop v228 v257).trips, ∀ (hinb : ∀ a, (k0_off2152 v1 k0_t51 v228 v257 k0_t54) a + S1x1x1x16x128.size a ≤ S2x2x108x128x128.size a), (Rect.unit (s := S2x2x108x128x128) (k0_off2152 v1 k0_t51 v228 v257 k0_t54) S1x1x1x16x128.size hinb).PackedRows (EltTy.packing .bf16)) ∧
  (∀ k0_t54 : Fin (k0_t54_loop v228 v257).trips, ∀ a, (k0_off2154 v1 k0_t51 v228 v257 k0_t54) a + S1x1x1x16x128.size a ≤ S2x2x108x128x128.size a) ∧
  (∀ k0_t54 : Fin (k0_t54_loop v228 v257).trips, ∀ (hinb : ∀ a, (k0_off2154 v1 k0_t51 v228 v257 k0_t54) a + S1x1x1x16x128.size a ≤ S2x2x108x128x128.size a), (Rect.unit (s := S2x2x108x128x128) (k0_off2154 v1 k0_t51 v228 v257 k0_t54) S1x1x1x16x128.size hinb).PackedRows (EltTy.packing .bf16)) ∧
  (∀ k0_t54 : Fin (k0_t54_loop v228 v257).trips, ∀ a, (k0_off2155 v1 k0_t51 v228 v257 k0_t54) a + S1x1x1x32x128.size a ≤ S2x2x8x1728x128.size a) ∧
  (∀ k0_t54 : Fin (k0_t54_loop v228 v257).trips, ∀ a, (k0_off2157 v1 k0_t51 v228 v257 k0_t54) a + S1x1x1x16x128.size a ≤ S2x2x108x128x128.size a) ∧
  (∀ k0_t54 : Fin (k0_t54_loop v228 v257).trips, ∀ (hinb : ∀ a, (k0_off2157 v1 k0_t51 v228 v257 k0_t54) a + S1x1x1x16x128.size a ≤ S2x2x108x128x128.size a), (Rect.unit (s := S2x2x108x128x128) (k0_off2157 v1 k0_t51 v228 v257 k0_t54) S1x1x1x16x128.size hinb).PackedRows (EltTy.packing .bf16)) ∧
  (∀ k0_t54 : Fin (k0_t54_loop v228 v257).trips, ∀ a, (k0_off2159 v1 k0_t51 v228 v257 k0_t54) a + S1x1x1x16x128.size a ≤ S2x2x108x128x128.size a) ∧
  (∀ k0_t54 : Fin (k0_t54_loop v228 v257).trips, ∀ (hinb : ∀ a, (k0_off2159 v1 k0_t51 v228 v257 k0_t54) a + S1x1x1x16x128.size a ≤ S2x2x108x128x128.size a), (Rect.unit (s := S2x2x108x128x128) (k0_off2159 v1 k0_t51 v228 v257 k0_t54) S1x1x1x16x128.size hinb).PackedRows (EltTy.packing .bf16)) ∧
  (∀ k0_t54 : Fin (k0_t54_loop v228 v257).trips, ∀ a, (k0_off2160 v1 k0_t51 v228 v257 k0_t54) a + S1x1x1x32x128.size a ≤ S2x2x8x1728x128.size a) ∧
  (∀ k0_t54 : Fin (k0_t54_loop v228 v257).trips, ∀ a, (k0_off2162 v1 k0_t51 v228 v257 k0_t54) a + S1x1x1x16x128.size a ≤ S2x2x108x128x128.size a) ∧
  (∀ k0_t54 : Fin (k0_t54_loop v228 v257).trips, ∀ (hinb : ∀ a, (k0_off2162 v1 k0_t51 v228 v257 k0_t54) a + S1x1x1x16x128.size a ≤ S2x2x108x128x128.size a), (Rect.unit (s := S2x2x108x128x128) (k0_off2162 v1 k0_t51 v228 v257 k0_t54) S1x1x1x16x128.size hinb).PackedRows (EltTy.packing .bf16)) ∧
  (∀ k0_t54 : Fin (k0_t54_loop v228 v257).trips, ∀ a, (k0_off2164 v1 k0_t51 v228 v257 k0_t54) a + S1x1x1x16x128.size a ≤ S2x2x108x128x128.size a) ∧
  (∀ k0_t54 : Fin (k0_t54_loop v228 v257).trips, ∀ (hinb : ∀ a, (k0_off2164 v1 k0_t51 v228 v257 k0_t54) a + S1x1x1x16x128.size a ≤ S2x2x108x128x128.size a), (Rect.unit (s := S2x2x108x128x128) (k0_off2164 v1 k0_t51 v228 v257 k0_t54) S1x1x1x16x128.size hinb).PackedRows (EltTy.packing .bf16)) ∧
  (∀ k0_t54 : Fin (k0_t54_loop v228 v257).trips, ∀ a, (k0_off2165 v1 k0_t51 v228 v257 k0_t54) a + S1x1x1x32x128.size a ≤ S2x2x8x1728x128.size a) ∧
  (∀ k0_t54 : Fin (k0_t54_loop v228 v257).trips, ∀ a, (k0_off2167 v1 k0_t51 v228 v257 k0_t54) a + S1x1x1x16x128.size a ≤ S2x2x108x128x128.size a) ∧
  (∀ k0_t54 : Fin (k0_t54_loop v228 v257).trips, ∀ (hinb : ∀ a, (k0_off2167 v1 k0_t51 v228 v257 k0_t54) a + S1x1x1x16x128.size a ≤ S2x2x108x128x128.size a), (Rect.unit (s := S2x2x108x128x128) (k0_off2167 v1 k0_t51 v228 v257 k0_t54) S1x1x1x16x128.size hinb).PackedRows (EltTy.packing .bf16)) ∧
  (∀ k0_t54 : Fin (k0_t54_loop v228 v257).trips, ∀ a, (k0_off2169 v1 k0_t51 v228 v257 k0_t54) a + S1x1x1x16x128.size a ≤ S2x2x108x128x128.size a) ∧
  (∀ k0_t54 : Fin (k0_t54_loop v228 v257).trips, ∀ (hinb : ∀ a, (k0_off2169 v1 k0_t51 v228 v257 k0_t54) a + S1x1x1x16x128.size a ≤ S2x2x108x128x128.size a), (Rect.unit (s := S2x2x108x128x128) (k0_off2169 v1 k0_t51 v228 v257 k0_t54) S1x1x1x16x128.size hinb).PackedRows (EltTy.packing .bf16)) ∧
  (∀ k0_t54 : Fin (k0_t54_loop v228 v257).trips, ∀ a, (k0_off2170 v1 k0_t51 v228 v257 k0_t54) a + S1x1x1x32x128.size a ≤ S2x2x8x1728x128.size a) ∧
  (∀ k0_t54 : Fin (k0_t54_loop v228 v257).trips, ∀ a, (k0_off2172 v1 k0_t51 v228 v257 k0_t54) a + S1x1x1x16x128.size a ≤ S2x2x108x128x128.size a) ∧
  (∀ k0_t54 : Fin (k0_t54_loop v228 v257).trips, ∀ (hinb : ∀ a, (k0_off2172 v1 k0_t51 v228 v257 k0_t54) a + S1x1x1x16x128.size a ≤ S2x2x108x128x128.size a), (Rect.unit (s := S2x2x108x128x128) (k0_off2172 v1 k0_t51 v228 v257 k0_t54) S1x1x1x16x128.size hinb).PackedRows (EltTy.packing .bf16)) ∧
  (∀ k0_t54 : Fin (k0_t54_loop v228 v257).trips, ∀ a, (k0_off2174 v1 k0_t51 v228 v257 k0_t54) a + S1x1x1x16x128.size a ≤ S2x2x108x128x128.size a) ∧
  (∀ k0_t54 : Fin (k0_t54_loop v228 v257).trips, ∀ (hinb : ∀ a, (k0_off2174 v1 k0_t51 v228 v257 k0_t54) a + S1x1x1x16x128.size a ≤ S2x2x108x128x128.size a), (Rect.unit (s := S2x2x108x128x128) (k0_off2174 v1 k0_t51 v228 v257 k0_t54) S1x1x1x16x128.size hinb).PackedRows (EltTy.packing .bf16)) ∧
  (∀ k0_t54 : Fin (k0_t54_loop v228 v257).trips, ∀ a, (k0_off2175 v1 k0_t51 v228 v257 k0_t54) a + S1x1x1x32x128.size a ≤ S2x2x8x1728x128.size a) ∧
  (∀ k0_t54 : Fin (k0_t54_loop v228 v257).trips, ∀ a, (k0_off2177 v1 k0_t51 v228 v257 k0_t54) a + S1x1x1x16x128.size a ≤ S2x2x108x128x128.size a)
def k0_chk35_7 (v1 : BitVec 32) (k0_t51 : Fin (k0_t51_loop v1).trips) (v228 : BitVec 32) (v257 : BitVec 32) : Prop :=
  (∀ k0_t54 : Fin (k0_t54_loop v228 v257).trips, ∀ (hinb : ∀ a, (k0_off2177 v1 k0_t51 v228 v257 k0_t54) a + S1x1x1x16x128.size a ≤ S2x2x108x128x128.size a), (Rect.unit (s := S2x2x108x128x128) (k0_off2177 v1 k0_t51 v228 v257 k0_t54) S1x1x1x16x128.size hinb).PackedRows (EltTy.packing .bf16)) ∧
  (∀ k0_t54 : Fin (k0_t54_loop v228 v257).trips, ∀ a, (k0_off2179 v1 k0_t51 v228 v257 k0_t54) a + S1x1x1x16x128.size a ≤ S2x2x108x128x128.size a) ∧
  (∀ k0_t54 : Fin (k0_t54_loop v228 v257).trips, ∀ (hinb : ∀ a, (k0_off2179 v1 k0_t51 v228 v257 k0_t54) a + S1x1x1x16x128.size a ≤ S2x2x108x128x128.size a), (Rect.unit (s := S2x2x108x128x128) (k0_off2179 v1 k0_t51 v228 v257 k0_t54) S1x1x1x16x128.size hinb).PackedRows (EltTy.packing .bf16)) ∧
  (∀ k0_t54 : Fin (k0_t54_loop v228 v257).trips, ∀ a, (k0_off2180 v1 k0_t51 v228 v257 k0_t54) a + S1x1x1x32x128.size a ≤ S2x2x8x1728x128.size a) ∧
  (∀ k0_t54 : Fin (k0_t54_loop v228 v257).trips, ∀ a, (k0_off2182 v1 k0_t51 v228 v257 k0_t54) a + S1x1x1x16x128.size a ≤ S2x2x108x128x128.size a) ∧
  (∀ k0_t54 : Fin (k0_t54_loop v228 v257).trips, ∀ (hinb : ∀ a, (k0_off2182 v1 k0_t51 v228 v257 k0_t54) a + S1x1x1x16x128.size a ≤ S2x2x108x128x128.size a), (Rect.unit (s := S2x2x108x128x128) (k0_off2182 v1 k0_t51 v228 v257 k0_t54) S1x1x1x16x128.size hinb).PackedRows (EltTy.packing .bf16)) ∧
  (∀ k0_t54 : Fin (k0_t54_loop v228 v257).trips, ∀ a, (k0_off2184 v1 k0_t51 v228 v257 k0_t54) a + S1x1x1x16x128.size a ≤ S2x2x108x128x128.size a) ∧
  (∀ k0_t54 : Fin (k0_t54_loop v228 v257).trips, ∀ (hinb : ∀ a, (k0_off2184 v1 k0_t51 v228 v257 k0_t54) a + S1x1x1x16x128.size a ≤ S2x2x108x128x128.size a), (Rect.unit (s := S2x2x108x128x128) (k0_off2184 v1 k0_t51 v228 v257 k0_t54) S1x1x1x16x128.size hinb).PackedRows (EltTy.packing .bf16)) ∧
  (∀ k0_t54 : Fin (k0_t54_loop v228 v257).trips, ∀ a, (k0_off2185 v1 k0_t51 v228 v257 k0_t54) a + S1x1x1x32x128.size a ≤ S2x2x8x1728x128.size a) ∧
  (∀ k0_t54 : Fin (k0_t54_loop v228 v257).trips, ∀ a, (k0_off2187 v1 k0_t51 v228 v257 k0_t54) a + S1x1x1x16x128.size a ≤ S2x2x108x128x128.size a) ∧
  (∀ k0_t54 : Fin (k0_t54_loop v228 v257).trips, ∀ (hinb : ∀ a, (k0_off2187 v1 k0_t51 v228 v257 k0_t54) a + S1x1x1x16x128.size a ≤ S2x2x108x128x128.size a), (Rect.unit (s := S2x2x108x128x128) (k0_off2187 v1 k0_t51 v228 v257 k0_t54) S1x1x1x16x128.size hinb).PackedRows (EltTy.packing .bf16)) ∧
  (∀ k0_t54 : Fin (k0_t54_loop v228 v257).trips, ∀ a, (k0_off2189 v1 k0_t51 v228 v257 k0_t54) a + S1x1x1x16x128.size a ≤ S2x2x108x128x128.size a) ∧
  (∀ k0_t54 : Fin (k0_t54_loop v228 v257).trips, ∀ (hinb : ∀ a, (k0_off2189 v1 k0_t51 v228 v257 k0_t54) a + S1x1x1x16x128.size a ≤ S2x2x108x128x128.size a), (Rect.unit (s := S2x2x108x128x128) (k0_off2189 v1 k0_t51 v228 v257 k0_t54) S1x1x1x16x128.size hinb).PackedRows (EltTy.packing .bf16)) ∧
  (∀ k0_t54 : Fin (k0_t54_loop v228 v257).trips, ∀ a, (k0_off2190 v1 k0_t51 v228 v257 k0_t54) a + S1x1x1x32x128.size a ≤ S2x2x8x1728x128.size a) ∧
  (∀ k0_t54 : Fin (k0_t54_loop v228 v257).trips, ∀ a, (k0_off2192 v1 k0_t51 v228 v257 k0_t54) a + S1x1x1x16x128.size a ≤ S2x2x108x128x128.size a) ∧
  (∀ k0_t54 : Fin (k0_t54_loop v228 v257).trips, ∀ (hinb : ∀ a, (k0_off2192 v1 k0_t51 v228 v257 k0_t54) a + S1x1x1x16x128.size a ≤ S2x2x108x128x128.size a), (Rect.unit (s := S2x2x108x128x128) (k0_off2192 v1 k0_t51 v228 v257 k0_t54) S1x1x1x16x128.size hinb).PackedRows (EltTy.packing .bf16)) ∧
  (∀ k0_t54 : Fin (k0_t54_loop v228 v257).trips, ∀ a, (k0_off2194 v1 k0_t51 v228 v257 k0_t54) a + S1x1x1x16x128.size a ≤ S2x2x108x128x128.size a) ∧
  (∀ k0_t54 : Fin (k0_t54_loop v228 v257).trips, ∀ (hinb : ∀ a, (k0_off2194 v1 k0_t51 v228 v257 k0_t54) a + S1x1x1x16x128.size a ≤ S2x2x108x128x128.size a), (Rect.unit (s := S2x2x108x128x128) (k0_off2194 v1 k0_t51 v228 v257 k0_t54) S1x1x1x16x128.size hinb).PackedRows (EltTy.packing .bf16)) ∧
  (∀ k0_t54 : Fin (k0_t54_loop v228 v257).trips, ∀ a, (k0_off2195 v1 k0_t51 v228 v257 k0_t54) a + S1x1x1x32x128.size a ≤ S2x2x8x1728x128.size a) ∧
  (∀ k0_t54 : Fin (k0_t54_loop v228 v257).trips, ∀ a, (k0_off2197 v1 k0_t51 v228 v257 k0_t54) a + S1x1x1x16x128.size a ≤ S2x2x108x128x128.size a) ∧
  (∀ k0_t54 : Fin (k0_t54_loop v228 v257).trips, ∀ (hinb : ∀ a, (k0_off2197 v1 k0_t51 v228 v257 k0_t54) a + S1x1x1x16x128.size a ≤ S2x2x108x128x128.size a), (Rect.unit (s := S2x2x108x128x128) (k0_off2197 v1 k0_t51 v228 v257 k0_t54) S1x1x1x16x128.size hinb).PackedRows (EltTy.packing .bf16)) ∧
  (∀ k0_t54 : Fin (k0_t54_loop v228 v257).trips, ∀ a, (k0_off2199 v1 k0_t51 v228 v257 k0_t54) a + S1x1x1x16x128.size a ≤ S2x2x108x128x128.size a) ∧
  (∀ k0_t54 : Fin (k0_t54_loop v228 v257).trips, ∀ (hinb : ∀ a, (k0_off2199 v1 k0_t51 v228 v257 k0_t54) a + S1x1x1x16x128.size a ≤ S2x2x108x128x128.size a), (Rect.unit (s := S2x2x108x128x128) (k0_off2199 v1 k0_t51 v228 v257 k0_t54) S1x1x1x16x128.size hinb).PackedRows (EltTy.packing .bf16)) ∧
  (∀ k0_t54 : Fin (k0_t54_loop v228 v257).trips, ∀ a, (k0_off2200 v1 k0_t51 v228 v257 k0_t54) a + S1x1x1x32x128.size a ≤ S2x2x8x1728x128.size a) ∧
  (∀ k0_t54 : Fin (k0_t54_loop v228 v257).trips, ∀ a, (k0_off2202 v1 k0_t51 v228 v257 k0_t54) a + S1x1x1x16x128.size a ≤ S2x2x108x128x128.size a) ∧
  (∀ k0_t54 : Fin (k0_t54_loop v228 v257).trips, ∀ (hinb : ∀ a, (k0_off2202 v1 k0_t51 v228 v257 k0_t54) a + S1x1x1x16x128.size a ≤ S2x2x108x128x128.size a), (Rect.unit (s := S2x2x108x128x128) (k0_off2202 v1 k0_t51 v228 v257 k0_t54) S1x1x1x16x128.size hinb).PackedRows (EltTy.packing .bf16)) ∧
  (∀ k0_t54 : Fin (k0_t54_loop v228 v257).trips, ∀ a, (k0_off2204 v1 k0_t51 v228 v257 k0_t54) a + S1x1x1x16x128.size a ≤ S2x2x108x128x128.size a) ∧
  (∀ k0_t54 : Fin (k0_t54_loop v228 v257).trips, ∀ (hinb : ∀ a, (k0_off2204 v1 k0_t51 v228 v257 k0_t54) a + S1x1x1x16x128.size a ≤ S2x2x108x128x128.size a), (Rect.unit (s := S2x2x108x128x128) (k0_off2204 v1 k0_t51 v228 v257 k0_t54) S1x1x1x16x128.size hinb).PackedRows (EltTy.packing .bf16)) ∧
  (∀ k0_t54 : Fin (k0_t54_loop v228 v257).trips, ∀ a, (k0_off2205 v1 k0_t51 v228 v257 k0_t54) a + S1x1x1x32x128.size a ≤ S2x2x8x1728x128.size a) ∧
  (∀ k0_t54 : Fin (k0_t54_loop v228 v257).trips, ∀ a, (k0_off2207 v1 k0_t51 v228 v257 k0_t54) a + S1x1x1x16x128.size a ≤ S2x2x108x128x128.size a) ∧
  (∀ k0_t54 : Fin (k0_t54_loop v228 v257).trips, ∀ (hinb : ∀ a, (k0_off2207 v1 k0_t51 v228 v257 k0_t54) a + S1x1x1x16x128.size a ≤ S2x2x108x128x128.size a), (Rect.unit (s := S2x2x108x128x128) (k0_off2207 v1 k0_t51 v228 v257 k0_t54) S1x1x1x16x128.size hinb).PackedRows (EltTy.packing .bf16)) ∧
  (∀ k0_t54 : Fin (k0_t54_loop v228 v257).trips, ∀ a, (k0_off2209 v1 k0_t51 v228 v257 k0_t54) a + S1x1x1x16x128.size a ≤ S2x2x108x128x128.size a)
def k0_chk35_8 (v1 : BitVec 32) (k0_t51 : Fin (k0_t51_loop v1).trips) (v228 : BitVec 32) (v257 : BitVec 32) : Prop :=
  (∀ k0_t54 : Fin (k0_t54_loop v228 v257).trips, ∀ (hinb : ∀ a, (k0_off2209 v1 k0_t51 v228 v257 k0_t54) a + S1x1x1x16x128.size a ≤ S2x2x108x128x128.size a), (Rect.unit (s := S2x2x108x128x128) (k0_off2209 v1 k0_t51 v228 v257 k0_t54) S1x1x1x16x128.size hinb).PackedRows (EltTy.packing .bf16)) ∧
  (∀ k0_t54 : Fin (k0_t54_loop v228 v257).trips, ∀ a, (k0_off2210 v1 k0_t51 v228 v257 k0_t54) a + S1x1x1x32x128.size a ≤ S2x2x8x1728x128.size a) ∧
  (∀ k0_t54 : Fin (k0_t54_loop v228 v257).trips, ∀ a, (k0_off2212 v1 k0_t51 v228 v257 k0_t54) a + S1x1x1x16x128.size a ≤ S2x2x108x128x128.size a) ∧
  (∀ k0_t54 : Fin (k0_t54_loop v228 v257).trips, ∀ (hinb : ∀ a, (k0_off2212 v1 k0_t51 v228 v257 k0_t54) a + S1x1x1x16x128.size a ≤ S2x2x108x128x128.size a), (Rect.unit (s := S2x2x108x128x128) (k0_off2212 v1 k0_t51 v228 v257 k0_t54) S1x1x1x16x128.size hinb).PackedRows (EltTy.packing .bf16)) ∧
  (∀ k0_t54 : Fin (k0_t54_loop v228 v257).trips, ∀ a, (k0_off2214 v1 k0_t51 v228 v257 k0_t54) a + S1x1x1x16x128.size a ≤ S2x2x108x128x128.size a) ∧
  (∀ k0_t54 : Fin (k0_t54_loop v228 v257).trips, ∀ (hinb : ∀ a, (k0_off2214 v1 k0_t51 v228 v257 k0_t54) a + S1x1x1x16x128.size a ≤ S2x2x108x128x128.size a), (Rect.unit (s := S2x2x108x128x128) (k0_off2214 v1 k0_t51 v228 v257 k0_t54) S1x1x1x16x128.size hinb).PackedRows (EltTy.packing .bf16)) ∧
  (∀ k0_t54 : Fin (k0_t54_loop v228 v257).trips, ∀ a, (k0_off2215 v1 k0_t51 v228 v257 k0_t54) a + S1x1x1x32x128.size a ≤ S2x2x8x1728x128.size a) ∧
  (∀ k0_t54 : Fin (k0_t54_loop v228 v257).trips, ∀ a, (k0_off2217 v1 k0_t51 v228 v257 k0_t54) a + S1x1x1x16x128.size a ≤ S2x2x108x128x128.size a) ∧
  (∀ k0_t54 : Fin (k0_t54_loop v228 v257).trips, ∀ (hinb : ∀ a, (k0_off2217 v1 k0_t51 v228 v257 k0_t54) a + S1x1x1x16x128.size a ≤ S2x2x108x128x128.size a), (Rect.unit (s := S2x2x108x128x128) (k0_off2217 v1 k0_t51 v228 v257 k0_t54) S1x1x1x16x128.size hinb).PackedRows (EltTy.packing .bf16)) ∧
  (∀ k0_t54 : Fin (k0_t54_loop v228 v257).trips, ∀ a, (k0_off2219 v1 k0_t51 v228 v257 k0_t54) a + S1x1x1x16x128.size a ≤ S2x2x108x128x128.size a) ∧
  (∀ k0_t54 : Fin (k0_t54_loop v228 v257).trips, ∀ (hinb : ∀ a, (k0_off2219 v1 k0_t51 v228 v257 k0_t54) a + S1x1x1x16x128.size a ≤ S2x2x108x128x128.size a), (Rect.unit (s := S2x2x108x128x128) (k0_off2219 v1 k0_t51 v228 v257 k0_t54) S1x1x1x16x128.size hinb).PackedRows (EltTy.packing .bf16)) ∧
  (∀ k0_t54 : Fin (k0_t54_loop v228 v257).trips, ∀ a, (k0_off2220 v1 k0_t51 v228 v257 k0_t54) a + S1x1x1x32x128.size a ≤ S2x2x8x1728x128.size a) ∧
  (∀ k0_t54 : Fin (k0_t54_loop v228 v257).trips, ∀ a, (k0_off2222 v1 k0_t51 v228 v257 k0_t54) a + S1x1x1x16x128.size a ≤ S2x2x108x128x128.size a) ∧
  (∀ k0_t54 : Fin (k0_t54_loop v228 v257).trips, ∀ (hinb : ∀ a, (k0_off2222 v1 k0_t51 v228 v257 k0_t54) a + S1x1x1x16x128.size a ≤ S2x2x108x128x128.size a), (Rect.unit (s := S2x2x108x128x128) (k0_off2222 v1 k0_t51 v228 v257 k0_t54) S1x1x1x16x128.size hinb).PackedRows (EltTy.packing .bf16)) ∧
  (∀ k0_t54 : Fin (k0_t54_loop v228 v257).trips, ∀ a, (k0_off2224 v1 k0_t51 v228 v257 k0_t54) a + S1x1x1x16x128.size a ≤ S2x2x108x128x128.size a) ∧
  (∀ k0_t54 : Fin (k0_t54_loop v228 v257).trips, ∀ (hinb : ∀ a, (k0_off2224 v1 k0_t51 v228 v257 k0_t54) a + S1x1x1x16x128.size a ≤ S2x2x108x128x128.size a), (Rect.unit (s := S2x2x108x128x128) (k0_off2224 v1 k0_t51 v228 v257 k0_t54) S1x1x1x16x128.size hinb).PackedRows (EltTy.packing .bf16)) ∧
  (∀ k0_t54 : Fin (k0_t54_loop v228 v257).trips, ∀ a, (k0_off2225 v1 k0_t51 v228 v257 k0_t54) a + S1x1x1x32x128.size a ≤ S2x2x8x1728x128.size a) ∧
  (∀ k0_t54 : Fin (k0_t54_loop v228 v257).trips, ∀ a, (k0_off2227 v1 k0_t51 v228 v257 k0_t54) a + S1x1x1x16x128.size a ≤ S2x2x108x128x128.size a) ∧
  (∀ k0_t54 : Fin (k0_t54_loop v228 v257).trips, ∀ (hinb : ∀ a, (k0_off2227 v1 k0_t51 v228 v257 k0_t54) a + S1x1x1x16x128.size a ≤ S2x2x108x128x128.size a), (Rect.unit (s := S2x2x108x128x128) (k0_off2227 v1 k0_t51 v228 v257 k0_t54) S1x1x1x16x128.size hinb).PackedRows (EltTy.packing .bf16)) ∧
  (∀ k0_t54 : Fin (k0_t54_loop v228 v257).trips, ∀ a, (k0_off2229 v1 k0_t51 v228 v257 k0_t54) a + S1x1x1x16x128.size a ≤ S2x2x108x128x128.size a) ∧
  (∀ k0_t54 : Fin (k0_t54_loop v228 v257).trips, ∀ (hinb : ∀ a, (k0_off2229 v1 k0_t51 v228 v257 k0_t54) a + S1x1x1x16x128.size a ≤ S2x2x108x128x128.size a), (Rect.unit (s := S2x2x108x128x128) (k0_off2229 v1 k0_t51 v228 v257 k0_t54) S1x1x1x16x128.size hinb).PackedRows (EltTy.packing .bf16)) ∧
  (∀ k0_t54 : Fin (k0_t54_loop v228 v257).trips, ∀ a, (k0_off2230 v1 k0_t51 v228 v257 k0_t54) a + S1x1x1x32x128.size a ≤ S2x2x8x1728x128.size a) ∧
  (∀ k0_t54 : Fin (k0_t54_loop v228 v257).trips, ∀ a, (k0_off2232 v1 k0_t51 v228 v257 k0_t54) a + S1x1x1x16x128.size a ≤ S2x2x108x128x128.size a) ∧
  (∀ k0_t54 : Fin (k0_t54_loop v228 v257).trips, ∀ (hinb : ∀ a, (k0_off2232 v1 k0_t51 v228 v257 k0_t54) a + S1x1x1x16x128.size a ≤ S2x2x108x128x128.size a), (Rect.unit (s := S2x2x108x128x128) (k0_off2232 v1 k0_t51 v228 v257 k0_t54) S1x1x1x16x128.size hinb).PackedRows (EltTy.packing .bf16)) ∧
  (∀ k0_t54 : Fin (k0_t54_loop v228 v257).trips, ∀ a, (k0_off2234 v1 k0_t51 v228 v257 k0_t54) a + S1x1x1x16x128.size a ≤ S2x2x108x128x128.size a) ∧
  (∀ k0_t54 : Fin (k0_t54_loop v228 v257).trips, ∀ (hinb : ∀ a, (k0_off2234 v1 k0_t51 v228 v257 k0_t54) a + S1x1x1x16x128.size a ≤ S2x2x108x128x128.size a), (Rect.unit (s := S2x2x108x128x128) (k0_off2234 v1 k0_t51 v228 v257 k0_t54) S1x1x1x16x128.size hinb).PackedRows (EltTy.packing .bf16)) ∧
  ((k0_t55_loop v228 v257).OK) ∧
  (∀ k0_t55 : Fin (k0_t55_loop v228 v257).trips, ∀ a, (k0_off2235 v228 v257 k0_t55) a + S1x1.size a ≤ S8x128.size a) ∧
  (∀ k0_t55 : Fin (k0_t55_loop v228 v257).trips, ∀ a, (k0_off2236 v228) a + S1.size a ≤ S8.size a) ∧
  (∀ k0_t55 : Fin (k0_t55_loop v228 v257).trips, 16 ∣ (k0_mult19 v228 v257 k0_t55).toNat) ∧
  (∀ k0_t55 : Fin (k0_t55_loop v228 v257).trips, ∀ a, (k0_off2237 v1 k0_t51 v228 v257 k0_t55) a + S1x1x1x32x128.size a ≤ S2x2x8x1728x128.size a) ∧
  (∀ k0_t55 : Fin (k0_t55_loop v228 v257).trips, ∀ a, (k0_off2239 v1 k0_t51 v228 v257 k0_t55) a + S1x1x1x16x128.size a ≤ S2x2x108x128x128.size a)
def k0_chk35_9 (v1 : BitVec 32) (k0_t51 : Fin (k0_t51_loop v1).trips) (v228 : BitVec 32) (v257 : BitVec 32) : Prop :=
  (∀ k0_t55 : Fin (k0_t55_loop v228 v257).trips, ∀ (hinb : ∀ a, (k0_off2239 v1 k0_t51 v228 v257 k0_t55) a + S1x1x1x16x128.size a ≤ S2x2x108x128x128.size a), (Rect.unit (s := S2x2x108x128x128) (k0_off2239 v1 k0_t51 v228 v257 k0_t55) S1x1x1x16x128.size hinb).PackedRows (EltTy.packing .bf16)) ∧
  (∀ k0_t55 : Fin (k0_t55_loop v228 v257).trips, ∀ a, (k0_off2241 v1 k0_t51 v228 v257 k0_t55) a + S1x1x1x16x128.size a ≤ S2x2x108x128x128.size a) ∧
  (∀ k0_t55 : Fin (k0_t55_loop v228 v257).trips, ∀ (hinb : ∀ a, (k0_off2241 v1 k0_t51 v228 v257 k0_t55) a + S1x1x1x16x128.size a ≤ S2x2x108x128x128.size a), (Rect.unit (s := S2x2x108x128x128) (k0_off2241 v1 k0_t51 v228 v257 k0_t55) S1x1x1x16x128.size hinb).PackedRows (EltTy.packing .bf16)) ∧
  (∀ k0_t55 : Fin (k0_t55_loop v228 v257).trips, ∀ a, (k0_off2242 v1 k0_t51 v228 v257 k0_t55) a + S1x1x1x32x128.size a ≤ S2x2x8x1728x128.size a) ∧
  (∀ k0_t55 : Fin (k0_t55_loop v228 v257).trips, ∀ a, (k0_off2244 v1 k0_t51 v228 v257 k0_t55) a + S1x1x1x16x128.size a ≤ S2x2x108x128x128.size a) ∧
  (∀ k0_t55 : Fin (k0_t55_loop v228 v257).trips, ∀ (hinb : ∀ a, (k0_off2244 v1 k0_t51 v228 v257 k0_t55) a + S1x1x1x16x128.size a ≤ S2x2x108x128x128.size a), (Rect.unit (s := S2x2x108x128x128) (k0_off2244 v1 k0_t51 v228 v257 k0_t55) S1x1x1x16x128.size hinb).PackedRows (EltTy.packing .bf16)) ∧
  (∀ k0_t55 : Fin (k0_t55_loop v228 v257).trips, ∀ a, (k0_off2246 v1 k0_t51 v228 v257 k0_t55) a + S1x1x1x16x128.size a ≤ S2x2x108x128x128.size a) ∧
  (∀ k0_t55 : Fin (k0_t55_loop v228 v257).trips, ∀ (hinb : ∀ a, (k0_off2246 v1 k0_t51 v228 v257 k0_t55) a + S1x1x1x16x128.size a ≤ S2x2x108x128x128.size a), (Rect.unit (s := S2x2x108x128x128) (k0_off2246 v1 k0_t51 v228 v257 k0_t55) S1x1x1x16x128.size hinb).PackedRows (EltTy.packing .bf16)) ∧
  (∀ k0_t55 : Fin (k0_t55_loop v228 v257).trips, ∀ a, (k0_off2247 v1 k0_t51 v228 v257 k0_t55) a + S1x1x1x32x128.size a ≤ S2x2x8x1728x128.size a) ∧
  (∀ k0_t55 : Fin (k0_t55_loop v228 v257).trips, ∀ a, (k0_off2249 v1 k0_t51 v228 v257 k0_t55) a + S1x1x1x16x128.size a ≤ S2x2x108x128x128.size a) ∧
  (∀ k0_t55 : Fin (k0_t55_loop v228 v257).trips, ∀ (hinb : ∀ a, (k0_off2249 v1 k0_t51 v228 v257 k0_t55) a + S1x1x1x16x128.size a ≤ S2x2x108x128x128.size a), (Rect.unit (s := S2x2x108x128x128) (k0_off2249 v1 k0_t51 v228 v257 k0_t55) S1x1x1x16x128.size hinb).PackedRows (EltTy.packing .bf16)) ∧
  (∀ k0_t55 : Fin (k0_t55_loop v228 v257).trips, ∀ a, (k0_off2251 v1 k0_t51 v228 v257 k0_t55) a + S1x1x1x16x128.size a ≤ S2x2x108x128x128.size a) ∧
  (∀ k0_t55 : Fin (k0_t55_loop v228 v257).trips, ∀ (hinb : ∀ a, (k0_off2251 v1 k0_t51 v228 v257 k0_t55) a + S1x1x1x16x128.size a ≤ S2x2x108x128x128.size a), (Rect.unit (s := S2x2x108x128x128) (k0_off2251 v1 k0_t51 v228 v257 k0_t55) S1x1x1x16x128.size hinb).PackedRows (EltTy.packing .bf16)) ∧
  (∀ k0_t55 : Fin (k0_t55_loop v228 v257).trips, ∀ a, (k0_off2252 v1 k0_t51 v228 v257 k0_t55) a + S1x1x1x32x128.size a ≤ S2x2x8x1728x128.size a) ∧
  (∀ k0_t55 : Fin (k0_t55_loop v228 v257).trips, ∀ a, (k0_off2254 v1 k0_t51 v228 v257 k0_t55) a + S1x1x1x16x128.size a ≤ S2x2x108x128x128.size a) ∧
  (∀ k0_t55 : Fin (k0_t55_loop v228 v257).trips, ∀ (hinb : ∀ a, (k0_off2254 v1 k0_t51 v228 v257 k0_t55) a + S1x1x1x16x128.size a ≤ S2x2x108x128x128.size a), (Rect.unit (s := S2x2x108x128x128) (k0_off2254 v1 k0_t51 v228 v257 k0_t55) S1x1x1x16x128.size hinb).PackedRows (EltTy.packing .bf16)) ∧
  (∀ k0_t55 : Fin (k0_t55_loop v228 v257).trips, ∀ a, (k0_off2256 v1 k0_t51 v228 v257 k0_t55) a + S1x1x1x16x128.size a ≤ S2x2x108x128x128.size a) ∧
  (∀ k0_t55 : Fin (k0_t55_loop v228 v257).trips, ∀ (hinb : ∀ a, (k0_off2256 v1 k0_t51 v228 v257 k0_t55) a + S1x1x1x16x128.size a ≤ S2x2x108x128x128.size a), (Rect.unit (s := S2x2x108x128x128) (k0_off2256 v1 k0_t51 v228 v257 k0_t55) S1x1x1x16x128.size hinb).PackedRows (EltTy.packing .bf16)) ∧
  (∀ k0_t55 : Fin (k0_t55_loop v228 v257).trips, ∀ a, (k0_off2257 v1 k0_t51 v228 v257 k0_t55) a + S1x1x1x32x128.size a ≤ S2x2x8x1728x128.size a) ∧
  (∀ k0_t55 : Fin (k0_t55_loop v228 v257).trips, ∀ a, (k0_off2259 v1 k0_t51 v228 v257 k0_t55) a + S1x1x1x16x128.size a ≤ S2x2x108x128x128.size a) ∧
  (∀ k0_t55 : Fin (k0_t55_loop v228 v257).trips, ∀ (hinb : ∀ a, (k0_off2259 v1 k0_t51 v228 v257 k0_t55) a + S1x1x1x16x128.size a ≤ S2x2x108x128x128.size a), (Rect.unit (s := S2x2x108x128x128) (k0_off2259 v1 k0_t51 v228 v257 k0_t55) S1x1x1x16x128.size hinb).PackedRows (EltTy.packing .bf16)) ∧
  (∀ k0_t55 : Fin (k0_t55_loop v228 v257).trips, ∀ a, (k0_off2261 v1 k0_t51 v228 v257 k0_t55) a + S1x1x1x16x128.size a ≤ S2x2x108x128x128.size a) ∧
  (∀ k0_t55 : Fin (k0_t55_loop v228 v257).trips, ∀ (hinb : ∀ a, (k0_off2261 v1 k0_t51 v228 v257 k0_t55) a + S1x1x1x16x128.size a ≤ S2x2x108x128x128.size a), (Rect.unit (s := S2x2x108x128x128) (k0_off2261 v1 k0_t51 v228 v257 k0_t55) S1x1x1x16x128.size hinb).PackedRows (EltTy.packing .bf16)) ∧
  (∀ k0_t55 : Fin (k0_t55_loop v228 v257).trips, ∀ a, (k0_off2262 v1 k0_t51 v228 v257 k0_t55) a + S1x1x1x32x128.size a ≤ S2x2x8x1728x128.size a) ∧
  (∀ k0_t55 : Fin (k0_t55_loop v228 v257).trips, ∀ a, (k0_off2264 v1 k0_t51 v228 v257 k0_t55) a + S1x1x1x16x128.size a ≤ S2x2x108x128x128.size a) ∧
  (∀ k0_t55 : Fin (k0_t55_loop v228 v257).trips, ∀ (hinb : ∀ a, (k0_off2264 v1 k0_t51 v228 v257 k0_t55) a + S1x1x1x16x128.size a ≤ S2x2x108x128x128.size a), (Rect.unit (s := S2x2x108x128x128) (k0_off2264 v1 k0_t51 v228 v257 k0_t55) S1x1x1x16x128.size hinb).PackedRows (EltTy.packing .bf16)) ∧
  (∀ k0_t55 : Fin (k0_t55_loop v228 v257).trips, ∀ a, (k0_off2266 v1 k0_t51 v228 v257 k0_t55) a + S1x1x1x16x128.size a ≤ S2x2x108x128x128.size a) ∧
  (∀ k0_t55 : Fin (k0_t55_loop v228 v257).trips, ∀ (hinb : ∀ a, (k0_off2266 v1 k0_t51 v228 v257 k0_t55) a + S1x1x1x16x128.size a ≤ S2x2x108x128x128.size a), (Rect.unit (s := S2x2x108x128x128) (k0_off2266 v1 k0_t51 v228 v257 k0_t55) S1x1x1x16x128.size hinb).PackedRows (EltTy.packing .bf16)) ∧
  (∀ k0_t55 : Fin (k0_t55_loop v228 v257).trips, ∀ a, (k0_off2267 v1 k0_t51 v228 v257 k0_t55) a + S1x1x1x32x128.size a ≤ S2x2x8x1728x128.size a) ∧
  (∀ k0_t55 : Fin (k0_t55_loop v228 v257).trips, ∀ a, (k0_off2269 v1 k0_t51 v228 v257 k0_t55) a + S1x1x1x16x128.size a ≤ S2x2x108x128x128.size a) ∧
  (∀ k0_t55 : Fin (k0_t55_loop v228 v257).trips, ∀ (hinb : ∀ a, (k0_off2269 v1 k0_t51 v228 v257 k0_t55) a + S1x1x1x16x128.size a ≤ S2x2x108x128x128.size a), (Rect.unit (s := S2x2x108x128x128) (k0_off2269 v1 k0_t51 v228 v257 k0_t55) S1x1x1x16x128.size hinb).PackedRows (EltTy.packing .bf16)) ∧
  (∀ k0_t55 : Fin (k0_t55_loop v228 v257).trips, ∀ a, (k0_off2271 v1 k0_t51 v228 v257 k0_t55) a + S1x1x1x16x128.size a ≤ S2x2x108x128x128.size a)
def k0_chk35_10 (v1 : BitVec 32) (k0_t51 : Fin (k0_t51_loop v1).trips) (v228 : BitVec 32) (v257 : BitVec 32) : Prop :=
  (∀ k0_t55 : Fin (k0_t55_loop v228 v257).trips, ∀ (hinb : ∀ a, (k0_off2271 v1 k0_t51 v228 v257 k0_t55) a + S1x1x1x16x128.size a ≤ S2x2x108x128x128.size a), (Rect.unit (s := S2x2x108x128x128) (k0_off2271 v1 k0_t51 v228 v257 k0_t55) S1x1x1x16x128.size hinb).PackedRows (EltTy.packing .bf16)) ∧
  (∀ k0_t55 : Fin (k0_t55_loop v228 v257).trips, ∀ a, (k0_off2272 v1 k0_t51 v228 v257 k0_t55) a + S1x1x1x32x128.size a ≤ S2x2x8x1728x128.size a) ∧
  (∀ k0_t55 : Fin (k0_t55_loop v228 v257).trips, ∀ a, (k0_off2274 v1 k0_t51 v228 v257 k0_t55) a + S1x1x1x16x128.size a ≤ S2x2x108x128x128.size a) ∧
  (∀ k0_t55 : Fin (k0_t55_loop v228 v257).trips, ∀ (hinb : ∀ a, (k0_off2274 v1 k0_t51 v228 v257 k0_t55) a + S1x1x1x16x128.size a ≤ S2x2x108x128x128.size a), (Rect.unit (s := S2x2x108x128x128) (k0_off2274 v1 k0_t51 v228 v257 k0_t55) S1x1x1x16x128.size hinb).PackedRows (EltTy.packing .bf16)) ∧
  (∀ k0_t55 : Fin (k0_t55_loop v228 v257).trips, ∀ a, (k0_off2276 v1 k0_t51 v228 v257 k0_t55) a + S1x1x1x16x128.size a ≤ S2x2x108x128x128.size a) ∧
  (∀ k0_t55 : Fin (k0_t55_loop v228 v257).trips, ∀ (hinb : ∀ a, (k0_off2276 v1 k0_t51 v228 v257 k0_t55) a + S1x1x1x16x128.size a ≤ S2x2x108x128x128.size a), (Rect.unit (s := S2x2x108x128x128) (k0_off2276 v1 k0_t51 v228 v257 k0_t55) S1x1x1x16x128.size hinb).PackedRows (EltTy.packing .bf16)) ∧
  (∀ k0_t55 : Fin (k0_t55_loop v228 v257).trips, ∀ a, (k0_off2277 v1 k0_t51 v228 v257 k0_t55) a + S1x1x1x32x128.size a ≤ S2x2x8x1728x128.size a) ∧
  (∀ k0_t55 : Fin (k0_t55_loop v228 v257).trips, ∀ a, (k0_off2279 v1 k0_t51 v228 v257 k0_t55) a + S1x1x1x16x128.size a ≤ S2x2x108x128x128.size a) ∧
  (∀ k0_t55 : Fin (k0_t55_loop v228 v257).trips, ∀ (hinb : ∀ a, (k0_off2279 v1 k0_t51 v228 v257 k0_t55) a + S1x1x1x16x128.size a ≤ S2x2x108x128x128.size a), (Rect.unit (s := S2x2x108x128x128) (k0_off2279 v1 k0_t51 v228 v257 k0_t55) S1x1x1x16x128.size hinb).PackedRows (EltTy.packing .bf16)) ∧
  (∀ k0_t55 : Fin (k0_t55_loop v228 v257).trips, ∀ a, (k0_off2281 v1 k0_t51 v228 v257 k0_t55) a + S1x1x1x16x128.size a ≤ S2x2x108x128x128.size a) ∧
  (∀ k0_t55 : Fin (k0_t55_loop v228 v257).trips, ∀ (hinb : ∀ a, (k0_off2281 v1 k0_t51 v228 v257 k0_t55) a + S1x1x1x16x128.size a ≤ S2x2x108x128x128.size a), (Rect.unit (s := S2x2x108x128x128) (k0_off2281 v1 k0_t51 v228 v257 k0_t55) S1x1x1x16x128.size hinb).PackedRows (EltTy.packing .bf16)) ∧
  (∀ k0_t55 : Fin (k0_t55_loop v228 v257).trips, ∀ a, (k0_off2282 v1 k0_t51 v228 v257 k0_t55) a + S1x1x1x32x128.size a ≤ S2x2x8x1728x128.size a) ∧
  (∀ k0_t55 : Fin (k0_t55_loop v228 v257).trips, ∀ a, (k0_off2284 v1 k0_t51 v228 v257 k0_t55) a + S1x1x1x16x128.size a ≤ S2x2x108x128x128.size a) ∧
  (∀ k0_t55 : Fin (k0_t55_loop v228 v257).trips, ∀ (hinb : ∀ a, (k0_off2284 v1 k0_t51 v228 v257 k0_t55) a + S1x1x1x16x128.size a ≤ S2x2x108x128x128.size a), (Rect.unit (s := S2x2x108x128x128) (k0_off2284 v1 k0_t51 v228 v257 k0_t55) S1x1x1x16x128.size hinb).PackedRows (EltTy.packing .bf16)) ∧
  (∀ k0_t55 : Fin (k0_t55_loop v228 v257).trips, ∀ a, (k0_off2286 v1 k0_t51 v228 v257 k0_t55) a + S1x1x1x16x128.size a ≤ S2x2x108x128x128.size a) ∧
  (∀ k0_t55 : Fin (k0_t55_loop v228 v257).trips, ∀ (hinb : ∀ a, (k0_off2286 v1 k0_t51 v228 v257 k0_t55) a + S1x1x1x16x128.size a ≤ S2x2x108x128x128.size a), (Rect.unit (s := S2x2x108x128x128) (k0_off2286 v1 k0_t51 v228 v257 k0_t55) S1x1x1x16x128.size hinb).PackedRows (EltTy.packing .bf16)) ∧
  (∀ k0_t55 : Fin (k0_t55_loop v228 v257).trips, ∀ a, (k0_off2287 v1 k0_t51 v228 v257 k0_t55) a + S1x1x1x32x128.size a ≤ S2x2x8x1728x128.size a) ∧
  (∀ k0_t55 : Fin (k0_t55_loop v228 v257).trips, ∀ a, (k0_off2289 v1 k0_t51 v228 v257 k0_t55) a + S1x1x1x16x128.size a ≤ S2x2x108x128x128.size a) ∧
  (∀ k0_t55 : Fin (k0_t55_loop v228 v257).trips, ∀ (hinb : ∀ a, (k0_off2289 v1 k0_t51 v228 v257 k0_t55) a + S1x1x1x16x128.size a ≤ S2x2x108x128x128.size a), (Rect.unit (s := S2x2x108x128x128) (k0_off2289 v1 k0_t51 v228 v257 k0_t55) S1x1x1x16x128.size hinb).PackedRows (EltTy.packing .bf16)) ∧
  (∀ k0_t55 : Fin (k0_t55_loop v228 v257).trips, ∀ a, (k0_off2291 v1 k0_t51 v228 v257 k0_t55) a + S1x1x1x16x128.size a ≤ S2x2x108x128x128.size a) ∧
  (∀ k0_t55 : Fin (k0_t55_loop v228 v257).trips, ∀ (hinb : ∀ a, (k0_off2291 v1 k0_t51 v228 v257 k0_t55) a + S1x1x1x16x128.size a ≤ S2x2x108x128x128.size a), (Rect.unit (s := S2x2x108x128x128) (k0_off2291 v1 k0_t51 v228 v257 k0_t55) S1x1x1x16x128.size hinb).PackedRows (EltTy.packing .bf16)) ∧
  (∀ k0_t55 : Fin (k0_t55_loop v228 v257).trips, ∀ a, (k0_off2292 v1 k0_t51 v228 v257 k0_t55) a + S1x1x1x32x128.size a ≤ S2x2x8x1728x128.size a) ∧
  (∀ k0_t55 : Fin (k0_t55_loop v228 v257).trips, ∀ a, (k0_off2294 v1 k0_t51 v228 v257 k0_t55) a + S1x1x1x16x128.size a ≤ S2x2x108x128x128.size a) ∧
  (∀ k0_t55 : Fin (k0_t55_loop v228 v257).trips, ∀ (hinb : ∀ a, (k0_off2294 v1 k0_t51 v228 v257 k0_t55) a + S1x1x1x16x128.size a ≤ S2x2x108x128x128.size a), (Rect.unit (s := S2x2x108x128x128) (k0_off2294 v1 k0_t51 v228 v257 k0_t55) S1x1x1x16x128.size hinb).PackedRows (EltTy.packing .bf16)) ∧
  (∀ k0_t55 : Fin (k0_t55_loop v228 v257).trips, ∀ a, (k0_off2296 v1 k0_t51 v228 v257 k0_t55) a + S1x1x1x16x128.size a ≤ S2x2x108x128x128.size a) ∧
  (∀ k0_t55 : Fin (k0_t55_loop v228 v257).trips, ∀ (hinb : ∀ a, (k0_off2296 v1 k0_t51 v228 v257 k0_t55) a + S1x1x1x16x128.size a ≤ S2x2x108x128x128.size a), (Rect.unit (s := S2x2x108x128x128) (k0_off2296 v1 k0_t51 v228 v257 k0_t55) S1x1x1x16x128.size hinb).PackedRows (EltTy.packing .bf16)) ∧
  (∀ k0_t55 : Fin (k0_t55_loop v228 v257).trips, ∀ a, (k0_off2297 v1 k0_t51 v228 v257 k0_t55) a + S1x1x1x32x128.size a ≤ S2x2x8x1728x128.size a) ∧
  (∀ k0_t55 : Fin (k0_t55_loop v228 v257).trips, ∀ a, (k0_off2299 v1 k0_t51 v228 v257 k0_t55) a + S1x1x1x16x128.size a ≤ S2x2x108x128x128.size a) ∧
  (∀ k0_t55 : Fin (k0_t55_loop v228 v257).trips, ∀ (hinb : ∀ a, (k0_off2299 v1 k0_t51 v228 v257 k0_t55) a + S1x1x1x16x128.size a ≤ S2x2x108x128x128.size a), (Rect.unit (s := S2x2x108x128x128) (k0_off2299 v1 k0_t51 v228 v257 k0_t55) S1x1x1x16x128.size hinb).PackedRows (EltTy.packing .bf16)) ∧
  (∀ k0_t55 : Fin (k0_t55_loop v228 v257).trips, ∀ a, (k0_off2301 v1 k0_t51 v228 v257 k0_t55) a + S1x1x1x16x128.size a ≤ S2x2x108x128x128.size a) ∧
  (∀ k0_t55 : Fin (k0_t55_loop v228 v257).trips, ∀ (hinb : ∀ a, (k0_off2301 v1 k0_t51 v228 v257 k0_t55) a + S1x1x1x16x128.size a ≤ S2x2x108x128x128.size a), (Rect.unit (s := S2x2x108x128x128) (k0_off2301 v1 k0_t51 v228 v257 k0_t55) S1x1x1x16x128.size hinb).PackedRows (EltTy.packing .bf16)) ∧
  (∀ k0_t55 : Fin (k0_t55_loop v228 v257).trips, ∀ a, (k0_off2302 v1 k0_t51 v228 v257 k0_t55) a + S1x1x1x32x128.size a ≤ S2x2x8x1728x128.size a)
def k0_chk35_11 (v1 : BitVec 32) (k0_t51 : Fin (k0_t51_loop v1).trips) (v228 : BitVec 32) (v257 : BitVec 32) : Prop :=
  (∀ k0_t55 : Fin (k0_t55_loop v228 v257).trips, ∀ a, (k0_off2304 v1 k0_t51 v228 v257 k0_t55) a + S1x1x1x16x128.size a ≤ S2x2x108x128x128.size a) ∧
  (∀ k0_t55 : Fin (k0_t55_loop v228 v257).trips, ∀ (hinb : ∀ a, (k0_off2304 v1 k0_t51 v228 v257 k0_t55) a + S1x1x1x16x128.size a ≤ S2x2x108x128x128.size a), (Rect.unit (s := S2x2x108x128x128) (k0_off2304 v1 k0_t51 v228 v257 k0_t55) S1x1x1x16x128.size hinb).PackedRows (EltTy.packing .bf16)) ∧
  (∀ k0_t55 : Fin (k0_t55_loop v228 v257).trips, ∀ a, (k0_off2306 v1 k0_t51 v228 v257 k0_t55) a + S1x1x1x16x128.size a ≤ S2x2x108x128x128.size a) ∧
  (∀ k0_t55 : Fin (k0_t55_loop v228 v257).trips, ∀ (hinb : ∀ a, (k0_off2306 v1 k0_t51 v228 v257 k0_t55) a + S1x1x1x16x128.size a ≤ S2x2x108x128x128.size a), (Rect.unit (s := S2x2x108x128x128) (k0_off2306 v1 k0_t51 v228 v257 k0_t55) S1x1x1x16x128.size hinb).PackedRows (EltTy.packing .bf16)) ∧
  (∀ k0_t55 : Fin (k0_t55_loop v228 v257).trips, ∀ a, (k0_off2307 v1 k0_t51 v228 v257 k0_t55) a + S1x1x1x32x128.size a ≤ S2x2x8x1728x128.size a) ∧
  (∀ k0_t55 : Fin (k0_t55_loop v228 v257).trips, ∀ a, (k0_off2309 v1 k0_t51 v228 v257 k0_t55) a + S1x1x1x16x128.size a ≤ S2x2x108x128x128.size a) ∧
  (∀ k0_t55 : Fin (k0_t55_loop v228 v257).trips, ∀ (hinb : ∀ a, (k0_off2309 v1 k0_t51 v228 v257 k0_t55) a + S1x1x1x16x128.size a ≤ S2x2x108x128x128.size a), (Rect.unit (s := S2x2x108x128x128) (k0_off2309 v1 k0_t51 v228 v257 k0_t55) S1x1x1x16x128.size hinb).PackedRows (EltTy.packing .bf16)) ∧
  (∀ k0_t55 : Fin (k0_t55_loop v228 v257).trips, ∀ a, (k0_off2311 v1 k0_t51 v228 v257 k0_t55) a + S1x1x1x16x128.size a ≤ S2x2x108x128x128.size a) ∧
  (∀ k0_t55 : Fin (k0_t55_loop v228 v257).trips, ∀ (hinb : ∀ a, (k0_off2311 v1 k0_t51 v228 v257 k0_t55) a + S1x1x1x16x128.size a ≤ S2x2x108x128x128.size a), (Rect.unit (s := S2x2x108x128x128) (k0_off2311 v1 k0_t51 v228 v257 k0_t55) S1x1x1x16x128.size hinb).PackedRows (EltTy.packing .bf16)) ∧
  (∀ k0_t55 : Fin (k0_t55_loop v228 v257).trips, ∀ a, (k0_off2312 v1 k0_t51 v228 v257 k0_t55) a + S1x1x1x32x128.size a ≤ S2x2x8x1728x128.size a) ∧
  (∀ k0_t55 : Fin (k0_t55_loop v228 v257).trips, ∀ a, (k0_off2314 v1 k0_t51 v228 v257 k0_t55) a + S1x1x1x16x128.size a ≤ S2x2x108x128x128.size a) ∧
  (∀ k0_t55 : Fin (k0_t55_loop v228 v257).trips, ∀ (hinb : ∀ a, (k0_off2314 v1 k0_t51 v228 v257 k0_t55) a + S1x1x1x16x128.size a ≤ S2x2x108x128x128.size a), (Rect.unit (s := S2x2x108x128x128) (k0_off2314 v1 k0_t51 v228 v257 k0_t55) S1x1x1x16x128.size hinb).PackedRows (EltTy.packing .bf16)) ∧
  (∀ k0_t55 : Fin (k0_t55_loop v228 v257).trips, ∀ a, (k0_off2316 v1 k0_t51 v228 v257 k0_t55) a + S1x1x1x16x128.size a ≤ S2x2x108x128x128.size a) ∧
  (∀ k0_t55 : Fin (k0_t55_loop v228 v257).trips, ∀ (hinb : ∀ a, (k0_off2316 v1 k0_t51 v228 v257 k0_t55) a + S1x1x1x16x128.size a ≤ S2x2x108x128x128.size a), (Rect.unit (s := S2x2x108x128x128) (k0_off2316 v1 k0_t51 v228 v257 k0_t55) S1x1x1x16x128.size hinb).PackedRows (EltTy.packing .bf16)) ∧
  (∀ k0_t55 : Fin (k0_t55_loop v228 v257).trips, ∀ a, (k0_off2317 v1 k0_t51 v228 v257 k0_t55) a + S1x1x1x32x128.size a ≤ S2x2x8x1728x128.size a) ∧
  (∀ k0_t55 : Fin (k0_t55_loop v228 v257).trips, ∀ a, (k0_off2319 v1 k0_t51 v228 v257 k0_t55) a + S1x1x1x16x128.size a ≤ S2x2x108x128x128.size a) ∧
  (∀ k0_t55 : Fin (k0_t55_loop v228 v257).trips, ∀ (hinb : ∀ a, (k0_off2319 v1 k0_t51 v228 v257 k0_t55) a + S1x1x1x16x128.size a ≤ S2x2x108x128x128.size a), (Rect.unit (s := S2x2x108x128x128) (k0_off2319 v1 k0_t51 v228 v257 k0_t55) S1x1x1x16x128.size hinb).PackedRows (EltTy.packing .bf16)) ∧
  (∀ k0_t55 : Fin (k0_t55_loop v228 v257).trips, ∀ a, (k0_off2321 v1 k0_t51 v228 v257 k0_t55) a + S1x1x1x16x128.size a ≤ S2x2x108x128x128.size a) ∧
  (∀ k0_t55 : Fin (k0_t55_loop v228 v257).trips, ∀ (hinb : ∀ a, (k0_off2321 v1 k0_t51 v228 v257 k0_t55) a + S1x1x1x16x128.size a ≤ S2x2x108x128x128.size a), (Rect.unit (s := S2x2x108x128x128) (k0_off2321 v1 k0_t51 v228 v257 k0_t55) S1x1x1x16x128.size hinb).PackedRows (EltTy.packing .bf16)) ∧
  (∀ k0_t55 : Fin (k0_t55_loop v228 v257).trips, ∀ a, (k0_off2322 v1 k0_t51 v228 v257 k0_t55) a + S1x1x1x32x128.size a ≤ S2x2x8x1728x128.size a) ∧
  (∀ k0_t55 : Fin (k0_t55_loop v228 v257).trips, ∀ a, (k0_off2324 v1 k0_t51 v228 v257 k0_t55) a + S1x1x1x16x128.size a ≤ S2x2x108x128x128.size a) ∧
  (∀ k0_t55 : Fin (k0_t55_loop v228 v257).trips, ∀ (hinb : ∀ a, (k0_off2324 v1 k0_t51 v228 v257 k0_t55) a + S1x1x1x16x128.size a ≤ S2x2x108x128x128.size a), (Rect.unit (s := S2x2x108x128x128) (k0_off2324 v1 k0_t51 v228 v257 k0_t55) S1x1x1x16x128.size hinb).PackedRows (EltTy.packing .bf16)) ∧
  (∀ k0_t55 : Fin (k0_t55_loop v228 v257).trips, ∀ a, (k0_off2326 v1 k0_t51 v228 v257 k0_t55) a + S1x1x1x16x128.size a ≤ S2x2x108x128x128.size a) ∧
  (∀ k0_t55 : Fin (k0_t55_loop v228 v257).trips, ∀ (hinb : ∀ a, (k0_off2326 v1 k0_t51 v228 v257 k0_t55) a + S1x1x1x16x128.size a ≤ S2x2x108x128x128.size a), (Rect.unit (s := S2x2x108x128x128) (k0_off2326 v1 k0_t51 v228 v257 k0_t55) S1x1x1x16x128.size hinb).PackedRows (EltTy.packing .bf16)) ∧
  (∀ k0_t55 : Fin (k0_t55_loop v228 v257).trips, ∀ a, (k0_off2327 v1 k0_t51 v228 v257 k0_t55) a + S1x1x1x32x128.size a ≤ S2x2x8x1728x128.size a) ∧
  (∀ k0_t55 : Fin (k0_t55_loop v228 v257).trips, ∀ a, (k0_off2329 v1 k0_t51 v228 v257 k0_t55) a + S1x1x1x16x128.size a ≤ S2x2x108x128x128.size a) ∧
  (∀ k0_t55 : Fin (k0_t55_loop v228 v257).trips, ∀ (hinb : ∀ a, (k0_off2329 v1 k0_t51 v228 v257 k0_t55) a + S1x1x1x16x128.size a ≤ S2x2x108x128x128.size a), (Rect.unit (s := S2x2x108x128x128) (k0_off2329 v1 k0_t51 v228 v257 k0_t55) S1x1x1x16x128.size hinb).PackedRows (EltTy.packing .bf16)) ∧
  (∀ k0_t55 : Fin (k0_t55_loop v228 v257).trips, ∀ a, (k0_off2331 v1 k0_t51 v228 v257 k0_t55) a + S1x1x1x16x128.size a ≤ S2x2x108x128x128.size a) ∧
  (∀ k0_t55 : Fin (k0_t55_loop v228 v257).trips, ∀ (hinb : ∀ a, (k0_off2331 v1 k0_t51 v228 v257 k0_t55) a + S1x1x1x16x128.size a ≤ S2x2x108x128x128.size a), (Rect.unit (s := S2x2x108x128x128) (k0_off2331 v1 k0_t51 v228 v257 k0_t55) S1x1x1x16x128.size hinb).PackedRows (EltTy.packing .bf16)) ∧
  (∀ k0_t55 : Fin (k0_t55_loop v228 v257).trips, ∀ a, (k0_off2332 v1 k0_t51 v228 v257 k0_t55) a + S1x1x1x32x128.size a ≤ S2x2x8x1728x128.size a) ∧
  (∀ k0_t55 : Fin (k0_t55_loop v228 v257).trips, ∀ a, (k0_off2334 v1 k0_t51 v228 v257 k0_t55) a + S1x1x1x16x128.size a ≤ S2x2x108x128x128.size a) ∧
  (∀ k0_t55 : Fin (k0_t55_loop v228 v257).trips, ∀ (hinb : ∀ a, (k0_off2334 v1 k0_t51 v228 v257 k0_t55) a + S1x1x1x16x128.size a ≤ S2x2x108x128x128.size a), (Rect.unit (s := S2x2x108x128x128) (k0_off2334 v1 k0_t51 v228 v257 k0_t55) S1x1x1x16x128.size hinb).PackedRows (EltTy.packing .bf16))
def k0_chk35_12 (v1 : BitVec 32) (k0_t51 : Fin (k0_t51_loop v1).trips) (v228 : BitVec 32) (v257 : BitVec 32) : Prop :=
  (∀ k0_t55 : Fin (k0_t55_loop v228 v257).trips, ∀ a, (k0_off2336 v1 k0_t51 v228 v257 k0_t55) a + S1x1x1x16x128.size a ≤ S2x2x108x128x128.size a) ∧
  (∀ k0_t55 : Fin (k0_t55_loop v228 v257).trips, ∀ (hinb : ∀ a, (k0_off2336 v1 k0_t51 v228 v257 k0_t55) a + S1x1x1x16x128.size a ≤ S2x2x108x128x128.size a), (Rect.unit (s := S2x2x108x128x128) (k0_off2336 v1 k0_t51 v228 v257 k0_t55) S1x1x1x16x128.size hinb).PackedRows (EltTy.packing .bf16)) ∧
  (∀ k0_t55 : Fin (k0_t55_loop v228 v257).trips, ∀ a, (k0_off2337 v1 k0_t51 v228 v257 k0_t55) a + S1x1x1x32x128.size a ≤ S2x2x8x1728x128.size a) ∧
  (∀ k0_t55 : Fin (k0_t55_loop v228 v257).trips, ∀ a, (k0_off2339 v1 k0_t51 v228 v257 k0_t55) a + S1x1x1x16x128.size a ≤ S2x2x108x128x128.size a) ∧
  (∀ k0_t55 : Fin (k0_t55_loop v228 v257).trips, ∀ (hinb : ∀ a, (k0_off2339 v1 k0_t51 v228 v257 k0_t55) a + S1x1x1x16x128.size a ≤ S2x2x108x128x128.size a), (Rect.unit (s := S2x2x108x128x128) (k0_off2339 v1 k0_t51 v228 v257 k0_t55) S1x1x1x16x128.size hinb).PackedRows (EltTy.packing .bf16)) ∧
  (∀ k0_t55 : Fin (k0_t55_loop v228 v257).trips, ∀ a, (k0_off2341 v1 k0_t51 v228 v257 k0_t55) a + S1x1x1x16x128.size a ≤ S2x2x108x128x128.size a) ∧
  (∀ k0_t55 : Fin (k0_t55_loop v228 v257).trips, ∀ (hinb : ∀ a, (k0_off2341 v1 k0_t51 v228 v257 k0_t55) a + S1x1x1x16x128.size a ≤ S2x2x108x128x128.size a), (Rect.unit (s := S2x2x108x128x128) (k0_off2341 v1 k0_t51 v228 v257 k0_t55) S1x1x1x16x128.size hinb).PackedRows (EltTy.packing .bf16)) ∧
  (∀ k0_t55 : Fin (k0_t55_loop v228 v257).trips, ∀ a, (k0_off2342 v1 k0_t51 v228 v257 k0_t55) a + S1x1x1x32x128.size a ≤ S2x2x8x1728x128.size a) ∧
  (∀ k0_t55 : Fin (k0_t55_loop v228 v257).trips, ∀ a, (k0_off2344 v1 k0_t51 v228 v257 k0_t55) a + S1x1x1x16x128.size a ≤ S2x2x108x128x128.size a) ∧
  (∀ k0_t55 : Fin (k0_t55_loop v228 v257).trips, ∀ (hinb : ∀ a, (k0_off2344 v1 k0_t51 v228 v257 k0_t55) a + S1x1x1x16x128.size a ≤ S2x2x108x128x128.size a), (Rect.unit (s := S2x2x108x128x128) (k0_off2344 v1 k0_t51 v228 v257 k0_t55) S1x1x1x16x128.size hinb).PackedRows (EltTy.packing .bf16)) ∧
  (∀ k0_t55 : Fin (k0_t55_loop v228 v257).trips, ∀ a, (k0_off2346 v1 k0_t51 v228 v257 k0_t55) a + S1x1x1x16x128.size a ≤ S2x2x108x128x128.size a) ∧
  (∀ k0_t55 : Fin (k0_t55_loop v228 v257).trips, ∀ (hinb : ∀ a, (k0_off2346 v1 k0_t51 v228 v257 k0_t55) a + S1x1x1x16x128.size a ≤ S2x2x108x128x128.size a), (Rect.unit (s := S2x2x108x128x128) (k0_off2346 v1 k0_t51 v228 v257 k0_t55) S1x1x1x16x128.size hinb).PackedRows (EltTy.packing .bf16)) ∧
  (∀ k0_t55 : Fin (k0_t55_loop v228 v257).trips, ∀ a, (k0_off2347 v1 k0_t51 v228 v257 k0_t55) a + S1x1x1x32x128.size a ≤ S2x2x8x1728x128.size a) ∧
  (∀ k0_t55 : Fin (k0_t55_loop v228 v257).trips, ∀ a, (k0_off2349 v1 k0_t51 v228 v257 k0_t55) a + S1x1x1x16x128.size a ≤ S2x2x108x128x128.size a) ∧
  (∀ k0_t55 : Fin (k0_t55_loop v228 v257).trips, ∀ (hinb : ∀ a, (k0_off2349 v1 k0_t51 v228 v257 k0_t55) a + S1x1x1x16x128.size a ≤ S2x2x108x128x128.size a), (Rect.unit (s := S2x2x108x128x128) (k0_off2349 v1 k0_t51 v228 v257 k0_t55) S1x1x1x16x128.size hinb).PackedRows (EltTy.packing .bf16)) ∧
  (∀ k0_t55 : Fin (k0_t55_loop v228 v257).trips, ∀ a, (k0_off2351 v1 k0_t51 v228 v257 k0_t55) a + S1x1x1x16x128.size a ≤ S2x2x108x128x128.size a) ∧
  (∀ k0_t55 : Fin (k0_t55_loop v228 v257).trips, ∀ (hinb : ∀ a, (k0_off2351 v1 k0_t51 v228 v257 k0_t55) a + S1x1x1x16x128.size a ≤ S2x2x108x128x128.size a), (Rect.unit (s := S2x2x108x128x128) (k0_off2351 v1 k0_t51 v228 v257 k0_t55) S1x1x1x16x128.size hinb).PackedRows (EltTy.packing .bf16)) ∧
  (∀ k0_t55 : Fin (k0_t55_loop v228 v257).trips, ∀ a, (k0_off2352 v1 k0_t51 v228 v257 k0_t55) a + S1x1x1x32x128.size a ≤ S2x2x8x1728x128.size a) ∧
  (∀ k0_t55 : Fin (k0_t55_loop v228 v257).trips, ∀ a, (k0_off2354 v1 k0_t51 v228 v257 k0_t55) a + S1x1x1x16x128.size a ≤ S2x2x108x128x128.size a) ∧
  (∀ k0_t55 : Fin (k0_t55_loop v228 v257).trips, ∀ (hinb : ∀ a, (k0_off2354 v1 k0_t51 v228 v257 k0_t55) a + S1x1x1x16x128.size a ≤ S2x2x108x128x128.size a), (Rect.unit (s := S2x2x108x128x128) (k0_off2354 v1 k0_t51 v228 v257 k0_t55) S1x1x1x16x128.size hinb).PackedRows (EltTy.packing .bf16)) ∧
  (∀ k0_t55 : Fin (k0_t55_loop v228 v257).trips, ∀ a, (k0_off2356 v1 k0_t51 v228 v257 k0_t55) a + S1x1x1x16x128.size a ≤ S2x2x108x128x128.size a) ∧
  (∀ k0_t55 : Fin (k0_t55_loop v228 v257).trips, ∀ (hinb : ∀ a, (k0_off2356 v1 k0_t51 v228 v257 k0_t55) a + S1x1x1x16x128.size a ≤ S2x2x108x128x128.size a), (Rect.unit (s := S2x2x108x128x128) (k0_off2356 v1 k0_t51 v228 v257 k0_t55) S1x1x1x16x128.size hinb).PackedRows (EltTy.packing .bf16)) ∧
  (∀ k0_t55 : Fin (k0_t55_loop v228 v257).trips, ∀ a, (k0_off2357 v1 k0_t51 v228 v257 k0_t55) a + S1x1x1x32x128.size a ≤ S2x2x8x1728x128.size a) ∧
  (∀ k0_t55 : Fin (k0_t55_loop v228 v257).trips, ∀ a, (k0_off2359 v1 k0_t51 v228 v257 k0_t55) a + S1x1x1x16x128.size a ≤ S2x2x108x128x128.size a) ∧
  (∀ k0_t55 : Fin (k0_t55_loop v228 v257).trips, ∀ (hinb : ∀ a, (k0_off2359 v1 k0_t51 v228 v257 k0_t55) a + S1x1x1x16x128.size a ≤ S2x2x108x128x128.size a), (Rect.unit (s := S2x2x108x128x128) (k0_off2359 v1 k0_t51 v228 v257 k0_t55) S1x1x1x16x128.size hinb).PackedRows (EltTy.packing .bf16)) ∧
  (∀ k0_t55 : Fin (k0_t55_loop v228 v257).trips, ∀ a, (k0_off2361 v1 k0_t51 v228 v257 k0_t55) a + S1x1x1x16x128.size a ≤ S2x2x108x128x128.size a) ∧
  (∀ k0_t55 : Fin (k0_t55_loop v228 v257).trips, ∀ (hinb : ∀ a, (k0_off2361 v1 k0_t51 v228 v257 k0_t55) a + S1x1x1x16x128.size a ≤ S2x2x108x128x128.size a), (Rect.unit (s := S2x2x108x128x128) (k0_off2361 v1 k0_t51 v228 v257 k0_t55) S1x1x1x16x128.size hinb).PackedRows (EltTy.packing .bf16)) ∧
  (∀ k0_t55 : Fin (k0_t55_loop v228 v257).trips, ∀ a, (k0_off2362 v1 k0_t51 v228 v257 k0_t55) a + S1x1x1x32x128.size a ≤ S2x2x8x1728x128.size a) ∧
  (∀ k0_t55 : Fin (k0_t55_loop v228 v257).trips, ∀ a, (k0_off2364 v1 k0_t51 v228 v257 k0_t55) a + S1x1x1x16x128.size a ≤ S2x2x108x128x128.size a) ∧
  (∀ k0_t55 : Fin (k0_t55_loop v228 v257).trips, ∀ (hinb : ∀ a, (k0_off2364 v1 k0_t51 v228 v257 k0_t55) a + S1x1x1x16x128.size a ≤ S2x2x108x128x128.size a), (Rect.unit (s := S2x2x108x128x128) (k0_off2364 v1 k0_t51 v228 v257 k0_t55) S1x1x1x16x128.size hinb).PackedRows (EltTy.packing .bf16)) ∧
  (∀ k0_t55 : Fin (k0_t55_loop v228 v257).trips, ∀ a, (k0_off2366 v1 k0_t51 v228 v257 k0_t55) a + S1x1x1x16x128.size a ≤ S2x2x108x128x128.size a) ∧
  (∀ k0_t55 : Fin (k0_t55_loop v228 v257).trips, ∀ (hinb : ∀ a, (k0_off2366 v1 k0_t51 v228 v257 k0_t55) a + S1x1x1x16x128.size a ≤ S2x2x108x128x128.size a), (Rect.unit (s := S2x2x108x128x128) (k0_off2366 v1 k0_t51 v228 v257 k0_t55) S1x1x1x16x128.size hinb).PackedRows (EltTy.packing .bf16))
def k0_chk35_13 (v1 : BitVec 32) (k0_t51 : Fin (k0_t51_loop v1).trips) (v228 : BitVec 32) (v257 : BitVec 32) : Prop :=
  (∀ k0_t55 : Fin (k0_t55_loop v228 v257).trips, ∀ a, (k0_off2367 v1 k0_t51 v228 v257 k0_t55) a + S1x1x1x32x128.size a ≤ S2x2x8x1728x128.size a) ∧
  (∀ k0_t55 : Fin (k0_t55_loop v228 v257).trips, ∀ a, (k0_off2369 v1 k0_t51 v228 v257 k0_t55) a + S1x1x1x16x128.size a ≤ S2x2x108x128x128.size a) ∧
  (∀ k0_t55 : Fin (k0_t55_loop v228 v257).trips, ∀ (hinb : ∀ a, (k0_off2369 v1 k0_t51 v228 v257 k0_t55) a + S1x1x1x16x128.size a ≤ S2x2x108x128x128.size a), (Rect.unit (s := S2x2x108x128x128) (k0_off2369 v1 k0_t51 v228 v257 k0_t55) S1x1x1x16x128.size hinb).PackedRows (EltTy.packing .bf16)) ∧
  (∀ k0_t55 : Fin (k0_t55_loop v228 v257).trips, ∀ a, (k0_off2371 v1 k0_t51 v228 v257 k0_t55) a + S1x1x1x16x128.size a ≤ S2x2x108x128x128.size a) ∧
  (∀ k0_t55 : Fin (k0_t55_loop v228 v257).trips, ∀ (hinb : ∀ a, (k0_off2371 v1 k0_t51 v228 v257 k0_t55) a + S1x1x1x16x128.size a ≤ S2x2x108x128x128.size a), (Rect.unit (s := S2x2x108x128x128) (k0_off2371 v1 k0_t51 v228 v257 k0_t55) S1x1x1x16x128.size hinb).PackedRows (EltTy.packing .bf16)) ∧
  (∀ k0_t55 : Fin (k0_t55_loop v228 v257).trips, ∀ a, (k0_off2372 v1 k0_t51 v228 v257 k0_t55) a + S1x1x1x32x128.size a ≤ S2x2x8x1728x128.size a) ∧
  (∀ k0_t55 : Fin (k0_t55_loop v228 v257).trips, ∀ a, (k0_off2374 v1 k0_t51 v228 v257 k0_t55) a + S1x1x1x16x128.size a ≤ S2x2x108x128x128.size a) ∧
  (∀ k0_t55 : Fin (k0_t55_loop v228 v257).trips, ∀ (hinb : ∀ a, (k0_off2374 v1 k0_t51 v228 v257 k0_t55) a + S1x1x1x16x128.size a ≤ S2x2x108x128x128.size a), (Rect.unit (s := S2x2x108x128x128) (k0_off2374 v1 k0_t51 v228 v257 k0_t55) S1x1x1x16x128.size hinb).PackedRows (EltTy.packing .bf16)) ∧
  (∀ k0_t55 : Fin (k0_t55_loop v228 v257).trips, ∀ a, (k0_off2376 v1 k0_t51 v228 v257 k0_t55) a + S1x1x1x16x128.size a ≤ S2x2x108x128x128.size a) ∧
  (∀ k0_t55 : Fin (k0_t55_loop v228 v257).trips, ∀ (hinb : ∀ a, (k0_off2376 v1 k0_t51 v228 v257 k0_t55) a + S1x1x1x16x128.size a ≤ S2x2x108x128x128.size a), (Rect.unit (s := S2x2x108x128x128) (k0_off2376 v1 k0_t51 v228 v257 k0_t55) S1x1x1x16x128.size hinb).PackedRows (EltTy.packing .bf16)) ∧
  (∀ k0_t55 : Fin (k0_t55_loop v228 v257).trips, ∀ a, (k0_off2377 v1 k0_t51 v228 v257 k0_t55) a + S1x1x1x32x128.size a ≤ S2x2x8x1728x128.size a) ∧
  (∀ k0_t55 : Fin (k0_t55_loop v228 v257).trips, ∀ a, (k0_off2379 v1 k0_t51 v228 v257 k0_t55) a + S1x1x1x16x128.size a ≤ S2x2x108x128x128.size a) ∧
  (∀ k0_t55 : Fin (k0_t55_loop v228 v257).trips, ∀ (hinb : ∀ a, (k0_off2379 v1 k0_t51 v228 v257 k0_t55) a + S1x1x1x16x128.size a ≤ S2x2x108x128x128.size a), (Rect.unit (s := S2x2x108x128x128) (k0_off2379 v1 k0_t51 v228 v257 k0_t55) S1x1x1x16x128.size hinb).PackedRows (EltTy.packing .bf16)) ∧
  (∀ k0_t55 : Fin (k0_t55_loop v228 v257).trips, ∀ a, (k0_off2381 v1 k0_t51 v228 v257 k0_t55) a + S1x1x1x16x128.size a ≤ S2x2x108x128x128.size a) ∧
  (∀ k0_t55 : Fin (k0_t55_loop v228 v257).trips, ∀ (hinb : ∀ a, (k0_off2381 v1 k0_t51 v228 v257 k0_t55) a + S1x1x1x16x128.size a ≤ S2x2x108x128x128.size a), (Rect.unit (s := S2x2x108x128x128) (k0_off2381 v1 k0_t51 v228 v257 k0_t55) S1x1x1x16x128.size hinb).PackedRows (EltTy.packing .bf16)) ∧
  (∀ k0_t55 : Fin (k0_t55_loop v228 v257).trips, ∀ a, (k0_off2382 v1 k0_t51 v228 v257 k0_t55) a + S1x1x1x32x128.size a ≤ S2x2x8x1728x128.size a) ∧
  (∀ k0_t55 : Fin (k0_t55_loop v228 v257).trips, ∀ a, (k0_off2384 v1 k0_t51 v228 v257 k0_t55) a + S1x1x1x16x128.size a ≤ S2x2x108x128x128.size a) ∧
  (∀ k0_t55 : Fin (k0_t55_loop v228 v257).trips, ∀ (hinb : ∀ a, (k0_off2384 v1 k0_t51 v228 v257 k0_t55) a + S1x1x1x16x128.size a ≤ S2x2x108x128x128.size a), (Rect.unit (s := S2x2x108x128x128) (k0_off2384 v1 k0_t51 v228 v257 k0_t55) S1x1x1x16x128.size hinb).PackedRows (EltTy.packing .bf16)) ∧
  (∀ k0_t55 : Fin (k0_t55_loop v228 v257).trips, ∀ a, (k0_off2386 v1 k0_t51 v228 v257 k0_t55) a + S1x1x1x16x128.size a ≤ S2x2x108x128x128.size a) ∧
  (∀ k0_t55 : Fin (k0_t55_loop v228 v257).trips, ∀ (hinb : ∀ a, (k0_off2386 v1 k0_t51 v228 v257 k0_t55) a + S1x1x1x16x128.size a ≤ S2x2x108x128x128.size a), (Rect.unit (s := S2x2x108x128x128) (k0_off2386 v1 k0_t51 v228 v257 k0_t55) S1x1x1x16x128.size hinb).PackedRows (EltTy.packing .bf16)) ∧
  (∀ k0_t55 : Fin (k0_t55_loop v228 v257).trips, ∀ a, (k0_off2387 v1 k0_t51 v228 v257 k0_t55) a + S1x1x1x32x128.size a ≤ S2x2x8x1728x128.size a) ∧
  (∀ k0_t55 : Fin (k0_t55_loop v228 v257).trips, ∀ a, (k0_off2389 v1 k0_t51 v228 v257 k0_t55) a + S1x1x1x16x128.size a ≤ S2x2x108x128x128.size a) ∧
  (∀ k0_t55 : Fin (k0_t55_loop v228 v257).trips, ∀ (hinb : ∀ a, (k0_off2389 v1 k0_t51 v228 v257 k0_t55) a + S1x1x1x16x128.size a ≤ S2x2x108x128x128.size a), (Rect.unit (s := S2x2x108x128x128) (k0_off2389 v1 k0_t51 v228 v257 k0_t55) S1x1x1x16x128.size hinb).PackedRows (EltTy.packing .bf16)) ∧
  (∀ k0_t55 : Fin (k0_t55_loop v228 v257).trips, ∀ a, (k0_off2391 v1 k0_t51 v228 v257 k0_t55) a + S1x1x1x16x128.size a ≤ S2x2x108x128x128.size a) ∧
  (∀ k0_t55 : Fin (k0_t55_loop v228 v257).trips, ∀ (hinb : ∀ a, (k0_off2391 v1 k0_t51 v228 v257 k0_t55) a + S1x1x1x16x128.size a ≤ S2x2x108x128x128.size a), (Rect.unit (s := S2x2x108x128x128) (k0_off2391 v1 k0_t51 v228 v257 k0_t55) S1x1x1x16x128.size hinb).PackedRows (EltTy.packing .bf16)) ∧
  (∀ k0_t55 : Fin (k0_t55_loop v228 v257).trips, ∀ a, (k0_off2392 v1 k0_t51 v228 v257 k0_t55) a + S1x1x1x32x128.size a ≤ S2x2x8x1728x128.size a) ∧
  (∀ k0_t55 : Fin (k0_t55_loop v228 v257).trips, ∀ a, (k0_off2394 v1 k0_t51 v228 v257 k0_t55) a + S1x1x1x16x128.size a ≤ S2x2x108x128x128.size a) ∧
  (∀ k0_t55 : Fin (k0_t55_loop v228 v257).trips, ∀ (hinb : ∀ a, (k0_off2394 v1 k0_t51 v228 v257 k0_t55) a + S1x1x1x16x128.size a ≤ S2x2x108x128x128.size a), (Rect.unit (s := S2x2x108x128x128) (k0_off2394 v1 k0_t51 v228 v257 k0_t55) S1x1x1x16x128.size hinb).PackedRows (EltTy.packing .bf16)) ∧
  (∀ k0_t55 : Fin (k0_t55_loop v228 v257).trips, ∀ a, (k0_off2396 v1 k0_t51 v228 v257 k0_t55) a + S1x1x1x16x128.size a ≤ S2x2x108x128x128.size a) ∧
  (∀ k0_t55 : Fin (k0_t55_loop v228 v257).trips, ∀ (hinb : ∀ a, (k0_off2396 v1 k0_t51 v228 v257 k0_t55) a + S1x1x1x16x128.size a ≤ S2x2x108x128x128.size a), (Rect.unit (s := S2x2x108x128x128) (k0_off2396 v1 k0_t51 v228 v257 k0_t55) S1x1x1x16x128.size hinb).PackedRows (EltTy.packing .bf16)) ∧
  (∀ k0_t55 : Fin (k0_t55_loop v228 v257).trips, ∀ a, (k0_off2397 v1 k0_t51 v228 v257 k0_t55) a + S1x1x1x32x128.size a ≤ S2x2x8x1728x128.size a) ∧
  (∀ k0_t55 : Fin (k0_t55_loop v228 v257).trips, ∀ a, (k0_off2399 v1 k0_t51 v228 v257 k0_t55) a + S1x1x1x16x128.size a ≤ S2x2x108x128x128.size a)
def k0_chk35_14 (v1 : BitVec 32) (k0_t51 : Fin (k0_t51_loop v1).trips) (v228 : BitVec 32) (v257 : BitVec 32) : Prop :=
  (∀ k0_t55 : Fin (k0_t55_loop v228 v257).trips, ∀ (hinb : ∀ a, (k0_off2399 v1 k0_t51 v228 v257 k0_t55) a + S1x1x1x16x128.size a ≤ S2x2x108x128x128.size a), (Rect.unit (s := S2x2x108x128x128) (k0_off2399 v1 k0_t51 v228 v257 k0_t55) S1x1x1x16x128.size hinb).PackedRows (EltTy.packing .bf16)) ∧
  (∀ k0_t55 : Fin (k0_t55_loop v228 v257).trips, ∀ a, (k0_off2401 v1 k0_t51 v228 v257 k0_t55) a + S1x1x1x16x128.size a ≤ S2x2x108x128x128.size a) ∧
  (∀ k0_t55 : Fin (k0_t55_loop v228 v257).trips, ∀ (hinb : ∀ a, (k0_off2401 v1 k0_t51 v228 v257 k0_t55) a + S1x1x1x16x128.size a ≤ S2x2x108x128x128.size a), (Rect.unit (s := S2x2x108x128x128) (k0_off2401 v1 k0_t51 v228 v257 k0_t55) S1x1x1x16x128.size hinb).PackedRows (EltTy.packing .bf16)) ∧
  (∀ k0_t55 : Fin (k0_t55_loop v228 v257).trips, ∀ a, (k0_off2402 v1 k0_t51 v228 v257 k0_t55) a + S1x1x1x32x128.size a ≤ S2x2x8x1728x128.size a) ∧
  (∀ k0_t55 : Fin (k0_t55_loop v228 v257).trips, ∀ a, (k0_off2404 v1 k0_t51 v228 v257 k0_t55) a + S1x1x1x16x128.size a ≤ S2x2x108x128x128.size a) ∧
  (∀ k0_t55 : Fin (k0_t55_loop v228 v257).trips, ∀ (hinb : ∀ a, (k0_off2404 v1 k0_t51 v228 v257 k0_t55) a + S1x1x1x16x128.size a ≤ S2x2x108x128x128.size a), (Rect.unit (s := S2x2x108x128x128) (k0_off2404 v1 k0_t51 v228 v257 k0_t55) S1x1x1x16x128.size hinb).PackedRows (EltTy.packing .bf16)) ∧
  (∀ k0_t55 : Fin (k0_t55_loop v228 v257).trips, ∀ a, (k0_off2406 v1 k0_t51 v228 v257 k0_t55) a + S1x1x1x16x128.size a ≤ S2x2x108x128x128.size a) ∧
  (∀ k0_t55 : Fin (k0_t55_loop v228 v257).trips, ∀ (hinb : ∀ a, (k0_off2406 v1 k0_t51 v228 v257 k0_t55) a + S1x1x1x16x128.size a ≤ S2x2x108x128x128.size a), (Rect.unit (s := S2x2x108x128x128) (k0_off2406 v1 k0_t51 v228 v257 k0_t55) S1x1x1x16x128.size hinb).PackedRows (EltTy.packing .bf16)) ∧
  (∀ k0_t55 : Fin (k0_t55_loop v228 v257).trips, ∀ a, (k0_off2407 v1 k0_t51 v228 v257 k0_t55) a + S1x1x1x32x128.size a ≤ S2x2x8x1728x128.size a) ∧
  (∀ k0_t55 : Fin (k0_t55_loop v228 v257).trips, ∀ a, (k0_off2409 v1 k0_t51 v228 v257 k0_t55) a + S1x1x1x16x128.size a ≤ S2x2x108x128x128.size a) ∧
  (∀ k0_t55 : Fin (k0_t55_loop v228 v257).trips, ∀ (hinb : ∀ a, (k0_off2409 v1 k0_t51 v228 v257 k0_t55) a + S1x1x1x16x128.size a ≤ S2x2x108x128x128.size a), (Rect.unit (s := S2x2x108x128x128) (k0_off2409 v1 k0_t51 v228 v257 k0_t55) S1x1x1x16x128.size hinb).PackedRows (EltTy.packing .bf16)) ∧
  (∀ k0_t55 : Fin (k0_t55_loop v228 v257).trips, ∀ a, (k0_off2411 v1 k0_t51 v228 v257 k0_t55) a + S1x1x1x16x128.size a ≤ S2x2x108x128x128.size a) ∧
  (∀ k0_t55 : Fin (k0_t55_loop v228 v257).trips, ∀ (hinb : ∀ a, (k0_off2411 v1 k0_t51 v228 v257 k0_t55) a + S1x1x1x16x128.size a ≤ S2x2x108x128x128.size a), (Rect.unit (s := S2x2x108x128x128) (k0_off2411 v1 k0_t51 v228 v257 k0_t55) S1x1x1x16x128.size hinb).PackedRows (EltTy.packing .bf16)) ∧
  (∀ k0_t55 : Fin (k0_t55_loop v228 v257).trips, ∀ a, (k0_off2412 v1 k0_t51 v228 v257 k0_t55) a + S1x1x1x32x128.size a ≤ S2x2x8x1728x128.size a) ∧
  (∀ k0_t55 : Fin (k0_t55_loop v228 v257).trips, ∀ a, (k0_off2414 v1 k0_t51 v228 v257 k0_t55) a + S1x1x1x16x128.size a ≤ S2x2x108x128x128.size a) ∧
  (∀ k0_t55 : Fin (k0_t55_loop v228 v257).trips, ∀ (hinb : ∀ a, (k0_off2414 v1 k0_t51 v228 v257 k0_t55) a + S1x1x1x16x128.size a ≤ S2x2x108x128x128.size a), (Rect.unit (s := S2x2x108x128x128) (k0_off2414 v1 k0_t51 v228 v257 k0_t55) S1x1x1x16x128.size hinb).PackedRows (EltTy.packing .bf16)) ∧
  (∀ k0_t55 : Fin (k0_t55_loop v228 v257).trips, ∀ a, (k0_off2416 v1 k0_t51 v228 v257 k0_t55) a + S1x1x1x16x128.size a ≤ S2x2x108x128x128.size a) ∧
  (∀ k0_t55 : Fin (k0_t55_loop v228 v257).trips, ∀ (hinb : ∀ a, (k0_off2416 v1 k0_t51 v228 v257 k0_t55) a + S1x1x1x16x128.size a ≤ S2x2x108x128x128.size a), (Rect.unit (s := S2x2x108x128x128) (k0_off2416 v1 k0_t51 v228 v257 k0_t55) S1x1x1x16x128.size hinb).PackedRows (EltTy.packing .bf16)) ∧
  (∀ k0_t55 : Fin (k0_t55_loop v228 v257).trips, ∀ a, (k0_off2417 v1 k0_t51 v228 v257 k0_t55) a + S1x1x1x32x128.size a ≤ S2x2x8x1728x128.size a) ∧
  (∀ k0_t55 : Fin (k0_t55_loop v228 v257).trips, ∀ a, (k0_off2419 v1 k0_t51 v228 v257 k0_t55) a + S1x1x1x16x128.size a ≤ S2x2x108x128x128.size a) ∧
  (∀ k0_t55 : Fin (k0_t55_loop v228 v257).trips, ∀ (hinb : ∀ a, (k0_off2419 v1 k0_t51 v228 v257 k0_t55) a + S1x1x1x16x128.size a ≤ S2x2x108x128x128.size a), (Rect.unit (s := S2x2x108x128x128) (k0_off2419 v1 k0_t51 v228 v257 k0_t55) S1x1x1x16x128.size hinb).PackedRows (EltTy.packing .bf16)) ∧
  (∀ k0_t55 : Fin (k0_t55_loop v228 v257).trips, ∀ a, (k0_off2421 v1 k0_t51 v228 v257 k0_t55) a + S1x1x1x16x128.size a ≤ S2x2x108x128x128.size a) ∧
  (∀ k0_t55 : Fin (k0_t55_loop v228 v257).trips, ∀ (hinb : ∀ a, (k0_off2421 v1 k0_t51 v228 v257 k0_t55) a + S1x1x1x16x128.size a ≤ S2x2x108x128x128.size a), (Rect.unit (s := S2x2x108x128x128) (k0_off2421 v1 k0_t51 v228 v257 k0_t55) S1x1x1x16x128.size hinb).PackedRows (EltTy.packing .bf16)) ∧
  (∀ k0_t55 : Fin (k0_t55_loop v228 v257).trips, ∀ a, (k0_off2422 v1 k0_t51 v228 v257 k0_t55) a + S1x1x1x32x128.size a ≤ S2x2x8x1728x128.size a) ∧
  (∀ k0_t55 : Fin (k0_t55_loop v228 v257).trips, ∀ a, (k0_off2424 v1 k0_t51 v228 v257 k0_t55) a + S1x1x1x16x128.size a ≤ S2x2x108x128x128.size a) ∧
  (∀ k0_t55 : Fin (k0_t55_loop v228 v257).trips, ∀ (hinb : ∀ a, (k0_off2424 v1 k0_t51 v228 v257 k0_t55) a + S1x1x1x16x128.size a ≤ S2x2x108x128x128.size a), (Rect.unit (s := S2x2x108x128x128) (k0_off2424 v1 k0_t51 v228 v257 k0_t55) S1x1x1x16x128.size hinb).PackedRows (EltTy.packing .bf16)) ∧
  (∀ k0_t55 : Fin (k0_t55_loop v228 v257).trips, ∀ a, (k0_off2426 v1 k0_t51 v228 v257 k0_t55) a + S1x1x1x16x128.size a ≤ S2x2x108x128x128.size a) ∧
  (∀ k0_t55 : Fin (k0_t55_loop v228 v257).trips, ∀ (hinb : ∀ a, (k0_off2426 v1 k0_t51 v228 v257 k0_t55) a + S1x1x1x16x128.size a ≤ S2x2x108x128x128.size a), (Rect.unit (s := S2x2x108x128x128) (k0_off2426 v1 k0_t51 v228 v257 k0_t55) S1x1x1x16x128.size hinb).PackedRows (EltTy.packing .bf16)) ∧
  (∀ k0_t55 : Fin (k0_t55_loop v228 v257).trips, ∀ a, (k0_off2427 v1 k0_t51 v228 v257 k0_t55) a + S1x1x1x32x128.size a ≤ S2x2x8x1728x128.size a) ∧
  (∀ k0_t55 : Fin (k0_t55_loop v228 v257).trips, ∀ a, (k0_off2429 v1 k0_t51 v228 v257 k0_t55) a + S1x1x1x16x128.size a ≤ S2x2x108x128x128.size a) ∧
  (∀ k0_t55 : Fin (k0_t55_loop v228 v257).trips, ∀ (hinb : ∀ a, (k0_off2429 v1 k0_t51 v228 v257 k0_t55) a + S1x1x1x16x128.size a ≤ S2x2x108x128x128.size a), (Rect.unit (s := S2x2x108x128x128) (k0_off2429 v1 k0_t51 v228 v257 k0_t55) S1x1x1x16x128.size hinb).PackedRows (EltTy.packing .bf16)) ∧
  (∀ k0_t55 : Fin (k0_t55_loop v228 v257).trips, ∀ a, (k0_off2431 v1 k0_t51 v228 v257 k0_t55) a + S1x1x1x16x128.size a ≤ S2x2x108x128x128.size a)
def k0_chk35_15 (v1 : BitVec 32) (k0_t51 : Fin (k0_t51_loop v1).trips) (v228 : BitVec 32) (v257 : BitVec 32) : Prop :=
  (∀ k0_t55 : Fin (k0_t55_loop v228 v257).trips, ∀ (hinb : ∀ a, (k0_off2431 v1 k0_t51 v228 v257 k0_t55) a + S1x1x1x16x128.size a ≤ S2x2x108x128x128.size a), (Rect.unit (s := S2x2x108x128x128) (k0_off2431 v1 k0_t51 v228 v257 k0_t55) S1x1x1x16x128.size hinb).PackedRows (EltTy.packing .bf16)) ∧
  (∀ k0_t55 : Fin (k0_t55_loop v228 v257).trips, ∀ a, (k0_off2432 v1 k0_t51 v228 v257 k0_t55) a + S1x1x1x32x128.size a ≤ S2x2x8x1728x128.size a) ∧
  (∀ k0_t55 : Fin (k0_t55_loop v228 v257).trips, ∀ a, (k0_off2434 v1 k0_t51 v228 v257 k0_t55) a + S1x1x1x16x128.size a ≤ S2x2x108x128x128.size a) ∧
  (∀ k0_t55 : Fin (k0_t55_loop v228 v257).trips, ∀ (hinb : ∀ a, (k0_off2434 v1 k0_t51 v228 v257 k0_t55) a + S1x1x1x16x128.size a ≤ S2x2x108x128x128.size a), (Rect.unit (s := S2x2x108x128x128) (k0_off2434 v1 k0_t51 v228 v257 k0_t55) S1x1x1x16x128.size hinb).PackedRows (EltTy.packing .bf16)) ∧
  (∀ k0_t55 : Fin (k0_t55_loop v228 v257).trips, ∀ a, (k0_off2436 v1 k0_t51 v228 v257 k0_t55) a + S1x1x1x16x128.size a ≤ S2x2x108x128x128.size a) ∧
  (∀ k0_t55 : Fin (k0_t55_loop v228 v257).trips, ∀ (hinb : ∀ a, (k0_off2436 v1 k0_t51 v228 v257 k0_t55) a + S1x1x1x16x128.size a ≤ S2x2x108x128x128.size a), (Rect.unit (s := S2x2x108x128x128) (k0_off2436 v1 k0_t51 v228 v257 k0_t55) S1x1x1x16x128.size hinb).PackedRows (EltTy.packing .bf16)) ∧
  (∀ k0_t55 : Fin (k0_t55_loop v228 v257).trips, ∀ a, (k0_off2437 v1 k0_t51 v228 v257 k0_t55) a + S1x1x1x32x128.size a ≤ S2x2x8x1728x128.size a) ∧
  (∀ k0_t55 : Fin (k0_t55_loop v228 v257).trips, ∀ a, (k0_off2439 v1 k0_t51 v228 v257 k0_t55) a + S1x1x1x16x128.size a ≤ S2x2x108x128x128.size a) ∧
  (∀ k0_t55 : Fin (k0_t55_loop v228 v257).trips, ∀ (hinb : ∀ a, (k0_off2439 v1 k0_t51 v228 v257 k0_t55) a + S1x1x1x16x128.size a ≤ S2x2x108x128x128.size a), (Rect.unit (s := S2x2x108x128x128) (k0_off2439 v1 k0_t51 v228 v257 k0_t55) S1x1x1x16x128.size hinb).PackedRows (EltTy.packing .bf16)) ∧
  (∀ k0_t55 : Fin (k0_t55_loop v228 v257).trips, ∀ a, (k0_off2441 v1 k0_t51 v228 v257 k0_t55) a + S1x1x1x16x128.size a ≤ S2x2x108x128x128.size a) ∧
  (∀ k0_t55 : Fin (k0_t55_loop v228 v257).trips, ∀ (hinb : ∀ a, (k0_off2441 v1 k0_t51 v228 v257 k0_t55) a + S1x1x1x16x128.size a ≤ S2x2x108x128x128.size a), (Rect.unit (s := S2x2x108x128x128) (k0_off2441 v1 k0_t51 v228 v257 k0_t55) S1x1x1x16x128.size hinb).PackedRows (EltTy.packing .bf16)) ∧
  (∀ k0_t55 : Fin (k0_t55_loop v228 v257).trips, ∀ a, (k0_off2442 v1 k0_t51 v228 v257 k0_t55) a + S1x1x1x32x128.size a ≤ S2x2x8x1728x128.size a) ∧
  (∀ k0_t55 : Fin (k0_t55_loop v228 v257).trips, ∀ a, (k0_off2444 v1 k0_t51 v228 v257 k0_t55) a + S1x1x1x16x128.size a ≤ S2x2x108x128x128.size a) ∧
  (∀ k0_t55 : Fin (k0_t55_loop v228 v257).trips, ∀ (hinb : ∀ a, (k0_off2444 v1 k0_t51 v228 v257 k0_t55) a + S1x1x1x16x128.size a ≤ S2x2x108x128x128.size a), (Rect.unit (s := S2x2x108x128x128) (k0_off2444 v1 k0_t51 v228 v257 k0_t55) S1x1x1x16x128.size hinb).PackedRows (EltTy.packing .bf16)) ∧
  (∀ k0_t55 : Fin (k0_t55_loop v228 v257).trips, ∀ a, (k0_off2446 v1 k0_t51 v228 v257 k0_t55) a + S1x1x1x16x128.size a ≤ S2x2x108x128x128.size a) ∧
  (∀ k0_t55 : Fin (k0_t55_loop v228 v257).trips, ∀ (hinb : ∀ a, (k0_off2446 v1 k0_t51 v228 v257 k0_t55) a + S1x1x1x16x128.size a ≤ S2x2x108x128x128.size a), (Rect.unit (s := S2x2x108x128x128) (k0_off2446 v1 k0_t51 v228 v257 k0_t55) S1x1x1x16x128.size hinb).PackedRows (EltTy.packing .bf16)) ∧
  (∀ k0_t55 : Fin (k0_t55_loop v228 v257).trips, ∀ a, (k0_off2447 v1 k0_t51 v228 v257 k0_t55) a + S1x1x1x32x128.size a ≤ S2x2x8x1728x128.size a) ∧
  (∀ k0_t55 : Fin (k0_t55_loop v228 v257).trips, ∀ a, (k0_off2449 v1 k0_t51 v228 v257 k0_t55) a + S1x1x1x16x128.size a ≤ S2x2x108x128x128.size a) ∧
  (∀ k0_t55 : Fin (k0_t55_loop v228 v257).trips, ∀ (hinb : ∀ a, (k0_off2449 v1 k0_t51 v228 v257 k0_t55) a + S1x1x1x16x128.size a ≤ S2x2x108x128x128.size a), (Rect.unit (s := S2x2x108x128x128) (k0_off2449 v1 k0_t51 v228 v257 k0_t55) S1x1x1x16x128.size hinb).PackedRows (EltTy.packing .bf16)) ∧
  (∀ k0_t55 : Fin (k0_t55_loop v228 v257).trips, ∀ a, (k0_off2451 v1 k0_t51 v228 v257 k0_t55) a + S1x1x1x16x128.size a ≤ S2x2x108x128x128.size a) ∧
  (∀ k0_t55 : Fin (k0_t55_loop v228 v257).trips, ∀ (hinb : ∀ a, (k0_off2451 v1 k0_t51 v228 v257 k0_t55) a + S1x1x1x16x128.size a ≤ S2x2x108x128x128.size a), (Rect.unit (s := S2x2x108x128x128) (k0_off2451 v1 k0_t51 v228 v257 k0_t55) S1x1x1x16x128.size hinb).PackedRows (EltTy.packing .bf16)) ∧
  (∀ k0_t55 : Fin (k0_t55_loop v228 v257).trips, ∀ a, (k0_off2452 v1 k0_t51 v228 v257 k0_t55) a + S1x1x1x32x128.size a ≤ S2x2x8x1728x128.size a) ∧
  (∀ k0_t55 : Fin (k0_t55_loop v228 v257).trips, ∀ a, (k0_off2454 v1 k0_t51 v228 v257 k0_t55) a + S1x1x1x16x128.size a ≤ S2x2x108x128x128.size a) ∧
  (∀ k0_t55 : Fin (k0_t55_loop v228 v257).trips, ∀ (hinb : ∀ a, (k0_off2454 v1 k0_t51 v228 v257 k0_t55) a + S1x1x1x16x128.size a ≤ S2x2x108x128x128.size a), (Rect.unit (s := S2x2x108x128x128) (k0_off2454 v1 k0_t51 v228 v257 k0_t55) S1x1x1x16x128.size hinb).PackedRows (EltTy.packing .bf16)) ∧
  (∀ k0_t55 : Fin (k0_t55_loop v228 v257).trips, ∀ a, (k0_off2456 v1 k0_t51 v228 v257 k0_t55) a + S1x1x1x16x128.size a ≤ S2x2x108x128x128.size a) ∧
  (∀ k0_t55 : Fin (k0_t55_loop v228 v257).trips, ∀ (hinb : ∀ a, (k0_off2456 v1 k0_t51 v228 v257 k0_t55) a + S1x1x1x16x128.size a ≤ S2x2x108x128x128.size a), (Rect.unit (s := S2x2x108x128x128) (k0_off2456 v1 k0_t51 v228 v257 k0_t55) S1x1x1x16x128.size hinb).PackedRows (EltTy.packing .bf16)) ∧
  (∀ k0_t55 : Fin (k0_t55_loop v228 v257).trips, ∀ a, (k0_off2457 v1 k0_t51 v228 v257 k0_t55) a + S1x1x1x32x128.size a ≤ S2x2x8x1728x128.size a) ∧
  (∀ k0_t55 : Fin (k0_t55_loop v228 v257).trips, ∀ a, (k0_off2459 v1 k0_t51 v228 v257 k0_t55) a + S1x1x1x16x128.size a ≤ S2x2x108x128x128.size a) ∧
  (∀ k0_t55 : Fin (k0_t55_loop v228 v257).trips, ∀ (hinb : ∀ a, (k0_off2459 v1 k0_t51 v228 v257 k0_t55) a + S1x1x1x16x128.size a ≤ S2x2x108x128x128.size a), (Rect.unit (s := S2x2x108x128x128) (k0_off2459 v1 k0_t51 v228 v257 k0_t55) S1x1x1x16x128.size hinb).PackedRows (EltTy.packing .bf16)) ∧
  (∀ k0_t55 : Fin (k0_t55_loop v228 v257).trips, ∀ a, (k0_off2461 v1 k0_t51 v228 v257 k0_t55) a + S1x1x1x16x128.size a ≤ S2x2x108x128x128.size a) ∧
  (∀ k0_t55 : Fin (k0_t55_loop v228 v257).trips, ∀ (hinb : ∀ a, (k0_off2461 v1 k0_t51 v228 v257 k0_t55) a + S1x1x1x16x128.size a ≤ S2x2x108x128x128.size a), (Rect.unit (s := S2x2x108x128x128) (k0_off2461 v1 k0_t51 v228 v257 k0_t55) S1x1x1x16x128.size hinb).PackedRows (EltTy.packing .bf16)) ∧
  (∀ k0_t55 : Fin (k0_t55_loop v228 v257).trips, ∀ a, (k0_off2462 v1 k0_t51 v228 v257 k0_t55) a + S1x1x1x32x128.size a ≤ S2x2x8x1728x128.size a)
def k0_chk35_16 (v1 : BitVec 32) (k0_t51 : Fin (k0_t51_loop v1).trips) (v228 : BitVec 32) (v257 : BitVec 32) : Prop :=
  (∀ k0_t55 : Fin (k0_t55_loop v228 v257).trips, ∀ a, (k0_off2464 v1 k0_t51 v228 v257 k0_t55) a + S1x1x1x16x128.size a ≤ S2x2x108x128x128.size a) ∧
  (∀ k0_t55 : Fin (k0_t55_loop v228 v257).trips, ∀ (hinb : ∀ a, (k0_off2464 v1 k0_t51 v228 v257 k0_t55) a + S1x1x1x16x128.size a ≤ S2x2x108x128x128.size a), (Rect.unit (s := S2x2x108x128x128) (k0_off2464 v1 k0_t51 v228 v257 k0_t55) S1x1x1x16x128.size hinb).PackedRows (EltTy.packing .bf16)) ∧
  (∀ k0_t55 : Fin (k0_t55_loop v228 v257).trips, ∀ a, (k0_off2466 v1 k0_t51 v228 v257 k0_t55) a + S1x1x1x16x128.size a ≤ S2x2x108x128x128.size a) ∧
  (∀ k0_t55 : Fin (k0_t55_loop v228 v257).trips, ∀ (hinb : ∀ a, (k0_off2466 v1 k0_t51 v228 v257 k0_t55) a + S1x1x1x16x128.size a ≤ S2x2x108x128x128.size a), (Rect.unit (s := S2x2x108x128x128) (k0_off2466 v1 k0_t51 v228 v257 k0_t55) S1x1x1x16x128.size hinb).PackedRows (EltTy.packing .bf16)) ∧
  (∀ k0_t55 : Fin (k0_t55_loop v228 v257).trips, ∀ a, (k0_off2467 v1 k0_t51 v228 v257 k0_t55) a + S1x1x1x32x128.size a ≤ S2x2x8x1728x128.size a) ∧
  (∀ k0_t55 : Fin (k0_t55_loop v228 v257).trips, ∀ a, (k0_off2469 v1 k0_t51 v228 v257 k0_t55) a + S1x1x1x16x128.size a ≤ S2x2x108x128x128.size a) ∧
  (∀ k0_t55 : Fin (k0_t55_loop v228 v257).trips, ∀ (hinb : ∀ a, (k0_off2469 v1 k0_t51 v228 v257 k0_t55) a + S1x1x1x16x128.size a ≤ S2x2x108x128x128.size a), (Rect.unit (s := S2x2x108x128x128) (k0_off2469 v1 k0_t51 v228 v257 k0_t55) S1x1x1x16x128.size hinb).PackedRows (EltTy.packing .bf16)) ∧
  (∀ k0_t55 : Fin (k0_t55_loop v228 v257).trips, ∀ a, (k0_off2471 v1 k0_t51 v228 v257 k0_t55) a + S1x1x1x16x128.size a ≤ S2x2x108x128x128.size a) ∧
  (∀ k0_t55 : Fin (k0_t55_loop v228 v257).trips, ∀ (hinb : ∀ a, (k0_off2471 v1 k0_t51 v228 v257 k0_t55) a + S1x1x1x16x128.size a ≤ S2x2x108x128x128.size a), (Rect.unit (s := S2x2x108x128x128) (k0_off2471 v1 k0_t51 v228 v257 k0_t55) S1x1x1x16x128.size hinb).PackedRows (EltTy.packing .bf16)) ∧
  (∀ k0_t55 : Fin (k0_t55_loop v228 v257).trips, ∀ a, (k0_off2472 v1 k0_t51 v228 v257 k0_t55) a + S1x1x1x32x128.size a ≤ S2x2x8x1728x128.size a) ∧
  (∀ k0_t55 : Fin (k0_t55_loop v228 v257).trips, ∀ a, (k0_off2474 v1 k0_t51 v228 v257 k0_t55) a + S1x1x1x16x128.size a ≤ S2x2x108x128x128.size a) ∧
  (∀ k0_t55 : Fin (k0_t55_loop v228 v257).trips, ∀ (hinb : ∀ a, (k0_off2474 v1 k0_t51 v228 v257 k0_t55) a + S1x1x1x16x128.size a ≤ S2x2x108x128x128.size a), (Rect.unit (s := S2x2x108x128x128) (k0_off2474 v1 k0_t51 v228 v257 k0_t55) S1x1x1x16x128.size hinb).PackedRows (EltTy.packing .bf16)) ∧
  (∀ k0_t55 : Fin (k0_t55_loop v228 v257).trips, ∀ a, (k0_off2476 v1 k0_t51 v228 v257 k0_t55) a + S1x1x1x16x128.size a ≤ S2x2x108x128x128.size a) ∧
  (∀ k0_t55 : Fin (k0_t55_loop v228 v257).trips, ∀ (hinb : ∀ a, (k0_off2476 v1 k0_t51 v228 v257 k0_t55) a + S1x1x1x16x128.size a ≤ S2x2x108x128x128.size a), (Rect.unit (s := S2x2x108x128x128) (k0_off2476 v1 k0_t51 v228 v257 k0_t55) S1x1x1x16x128.size hinb).PackedRows (EltTy.packing .bf16)) ∧
  (∀ k0_t55 : Fin (k0_t55_loop v228 v257).trips, ∀ a, (k0_off2477 v1 k0_t51 v228 v257 k0_t55) a + S1x1x1x32x128.size a ≤ S2x2x8x1728x128.size a) ∧
  (∀ k0_t55 : Fin (k0_t55_loop v228 v257).trips, ∀ a, (k0_off2479 v1 k0_t51 v228 v257 k0_t55) a + S1x1x1x16x128.size a ≤ S2x2x108x128x128.size a) ∧
  (∀ k0_t55 : Fin (k0_t55_loop v228 v257).trips, ∀ (hinb : ∀ a, (k0_off2479 v1 k0_t51 v228 v257 k0_t55) a + S1x1x1x16x128.size a ≤ S2x2x108x128x128.size a), (Rect.unit (s := S2x2x108x128x128) (k0_off2479 v1 k0_t51 v228 v257 k0_t55) S1x1x1x16x128.size hinb).PackedRows (EltTy.packing .bf16)) ∧
  (∀ k0_t55 : Fin (k0_t55_loop v228 v257).trips, ∀ a, (k0_off2481 v1 k0_t51 v228 v257 k0_t55) a + S1x1x1x16x128.size a ≤ S2x2x108x128x128.size a) ∧
  (∀ k0_t55 : Fin (k0_t55_loop v228 v257).trips, ∀ (hinb : ∀ a, (k0_off2481 v1 k0_t51 v228 v257 k0_t55) a + S1x1x1x16x128.size a ≤ S2x2x108x128x128.size a), (Rect.unit (s := S2x2x108x128x128) (k0_off2481 v1 k0_t51 v228 v257 k0_t55) S1x1x1x16x128.size hinb).PackedRows (EltTy.packing .bf16)) ∧
  (∀ k0_t55 : Fin (k0_t55_loop v228 v257).trips, ∀ a, (k0_off2482 v1 k0_t51 v228 v257 k0_t55) a + S1x1x1x32x128.size a ≤ S2x2x8x1728x128.size a) ∧
  (∀ k0_t55 : Fin (k0_t55_loop v228 v257).trips, ∀ a, (k0_off2484 v1 k0_t51 v228 v257 k0_t55) a + S1x1x1x16x128.size a ≤ S2x2x108x128x128.size a) ∧
  (∀ k0_t55 : Fin (k0_t55_loop v228 v257).trips, ∀ (hinb : ∀ a, (k0_off2484 v1 k0_t51 v228 v257 k0_t55) a + S1x1x1x16x128.size a ≤ S2x2x108x128x128.size a), (Rect.unit (s := S2x2x108x128x128) (k0_off2484 v1 k0_t51 v228 v257 k0_t55) S1x1x1x16x128.size hinb).PackedRows (EltTy.packing .bf16)) ∧
  (∀ k0_t55 : Fin (k0_t55_loop v228 v257).trips, ∀ a, (k0_off2486 v1 k0_t51 v228 v257 k0_t55) a + S1x1x1x16x128.size a ≤ S2x2x108x128x128.size a) ∧
  (∀ k0_t55 : Fin (k0_t55_loop v228 v257).trips, ∀ (hinb : ∀ a, (k0_off2486 v1 k0_t51 v228 v257 k0_t55) a + S1x1x1x16x128.size a ≤ S2x2x108x128x128.size a), (Rect.unit (s := S2x2x108x128x128) (k0_off2486 v1 k0_t51 v228 v257 k0_t55) S1x1x1x16x128.size hinb).PackedRows (EltTy.packing .bf16)) ∧
  (∀ k0_t55 : Fin (k0_t55_loop v228 v257).trips, ∀ a, (k0_off2487 v1 k0_t51 v228 v257 k0_t55) a + S1x1x1x32x128.size a ≤ S2x2x8x1728x128.size a) ∧
  (∀ k0_t55 : Fin (k0_t55_loop v228 v257).trips, ∀ a, (k0_off2489 v1 k0_t51 v228 v257 k0_t55) a + S1x1x1x16x128.size a ≤ S2x2x108x128x128.size a) ∧
  (∀ k0_t55 : Fin (k0_t55_loop v228 v257).trips, ∀ (hinb : ∀ a, (k0_off2489 v1 k0_t51 v228 v257 k0_t55) a + S1x1x1x16x128.size a ≤ S2x2x108x128x128.size a), (Rect.unit (s := S2x2x108x128x128) (k0_off2489 v1 k0_t51 v228 v257 k0_t55) S1x1x1x16x128.size hinb).PackedRows (EltTy.packing .bf16)) ∧
  (∀ k0_t55 : Fin (k0_t55_loop v228 v257).trips, ∀ a, (k0_off2491 v1 k0_t51 v228 v257 k0_t55) a + S1x1x1x16x128.size a ≤ S2x2x108x128x128.size a) ∧
  (∀ k0_t55 : Fin (k0_t55_loop v228 v257).trips, ∀ (hinb : ∀ a, (k0_off2491 v1 k0_t51 v228 v257 k0_t55) a + S1x1x1x16x128.size a ≤ S2x2x108x128x128.size a), (Rect.unit (s := S2x2x108x128x128) (k0_off2491 v1 k0_t51 v228 v257 k0_t55) S1x1x1x16x128.size hinb).PackedRows (EltTy.packing .bf16)) ∧
  (∀ k0_t55 : Fin (k0_t55_loop v228 v257).trips, ∀ a, (k0_off2492 v1 k0_t51 v228 v257 k0_t55) a + S1x1x1x32x128.size a ≤ S2x2x8x1728x128.size a) ∧
  (∀ k0_t55 : Fin (k0_t55_loop v228 v257).trips, ∀ a, (k0_off2494 v1 k0_t51 v228 v257 k0_t55) a + S1x1x1x16x128.size a ≤ S2x2x108x128x128.size a) ∧
  (∀ k0_t55 : Fin (k0_t55_loop v228 v257).trips, ∀ (hinb : ∀ a, (k0_off2494 v1 k0_t51 v228 v257 k0_t55) a + S1x1x1x16x128.size a ≤ S2x2x108x128x128.size a), (Rect.unit (s := S2x2x108x128x128) (k0_off2494 v1 k0_t51 v228 v257 k0_t55) S1x1x1x16x128.size hinb).PackedRows (EltTy.packing .bf16))
def k0_chk35_17 (v1 : BitVec 32) (k0_t51 : Fin (k0_t51_loop v1).trips) (v228 : BitVec 32) (v257 : BitVec 32) : Prop :=
  (∀ k0_t55 : Fin (k0_t55_loop v228 v257).trips, ∀ a, (k0_off2496 v1 k0_t51 v228 v257 k0_t55) a + S1x1x1x16x128.size a ≤ S2x2x108x128x128.size a) ∧
  (∀ k0_t55 : Fin (k0_t55_loop v228 v257).trips, ∀ (hinb : ∀ a, (k0_off2496 v1 k0_t51 v228 v257 k0_t55) a + S1x1x1x16x128.size a ≤ S2x2x108x128x128.size a), (Rect.unit (s := S2x2x108x128x128) (k0_off2496 v1 k0_t51 v228 v257 k0_t55) S1x1x1x16x128.size hinb).PackedRows (EltTy.packing .bf16)) ∧
  (∀ k0_t55 : Fin (k0_t55_loop v228 v257).trips, ∀ a, (k0_off2497 v1 k0_t51 v228 v257 k0_t55) a + S1x1x1x32x128.size a ≤ S2x2x8x1728x128.size a) ∧
  (∀ k0_t55 : Fin (k0_t55_loop v228 v257).trips, ∀ a, (k0_off2499 v1 k0_t51 v228 v257 k0_t55) a + S1x1x1x16x128.size a ≤ S2x2x108x128x128.size a) ∧
  (∀ k0_t55 : Fin (k0_t55_loop v228 v257).trips, ∀ (hinb : ∀ a, (k0_off2499 v1 k0_t51 v228 v257 k0_t55) a + S1x1x1x16x128.size a ≤ S2x2x108x128x128.size a), (Rect.unit (s := S2x2x108x128x128) (k0_off2499 v1 k0_t51 v228 v257 k0_t55) S1x1x1x16x128.size hinb).PackedRows (EltTy.packing .bf16)) ∧
  (∀ k0_t55 : Fin (k0_t55_loop v228 v257).trips, ∀ a, (k0_off2501 v1 k0_t51 v228 v257 k0_t55) a + S1x1x1x16x128.size a ≤ S2x2x108x128x128.size a) ∧
  (∀ k0_t55 : Fin (k0_t55_loop v228 v257).trips, ∀ (hinb : ∀ a, (k0_off2501 v1 k0_t51 v228 v257 k0_t55) a + S1x1x1x16x128.size a ≤ S2x2x108x128x128.size a), (Rect.unit (s := S2x2x108x128x128) (k0_off2501 v1 k0_t51 v228 v257 k0_t55) S1x1x1x16x128.size hinb).PackedRows (EltTy.packing .bf16)) ∧
  (∀ k0_t55 : Fin (k0_t55_loop v228 v257).trips, ∀ a, (k0_off2502 v1 k0_t51 v228 v257 k0_t55) a + S1x1x1x32x128.size a ≤ S2x2x8x1728x128.size a) ∧
  (∀ k0_t55 : Fin (k0_t55_loop v228 v257).trips, ∀ a, (k0_off2504 v1 k0_t51 v228 v257 k0_t55) a + S1x1x1x16x128.size a ≤ S2x2x108x128x128.size a) ∧
  (∀ k0_t55 : Fin (k0_t55_loop v228 v257).trips, ∀ (hinb : ∀ a, (k0_off2504 v1 k0_t51 v228 v257 k0_t55) a + S1x1x1x16x128.size a ≤ S2x2x108x128x128.size a), (Rect.unit (s := S2x2x108x128x128) (k0_off2504 v1 k0_t51 v228 v257 k0_t55) S1x1x1x16x128.size hinb).PackedRows (EltTy.packing .bf16)) ∧
  (∀ k0_t55 : Fin (k0_t55_loop v228 v257).trips, ∀ a, (k0_off2506 v1 k0_t51 v228 v257 k0_t55) a + S1x1x1x16x128.size a ≤ S2x2x108x128x128.size a) ∧
  (∀ k0_t55 : Fin (k0_t55_loop v228 v257).trips, ∀ (hinb : ∀ a, (k0_off2506 v1 k0_t51 v228 v257 k0_t55) a + S1x1x1x16x128.size a ≤ S2x2x108x128x128.size a), (Rect.unit (s := S2x2x108x128x128) (k0_off2506 v1 k0_t51 v228 v257 k0_t55) S1x1x1x16x128.size hinb).PackedRows (EltTy.packing .bf16)) ∧
  ((k0_t56_loop v228 v257).OK) ∧
  (∀ k0_t56 : Fin (k0_t56_loop v228 v257).trips, 16 ∣ (k0_mult20 v228 v257 k0_t56).toNat) ∧
  (∀ k0_t56 : Fin (k0_t56_loop v228 v257).trips, ∀ a, (k0_off2507 v1 k0_t51 v228 v257 k0_t56) a + S1x1x1x16x128.size a ≤ S2x2x108x128x128.size a) ∧
  (∀ k0_t56 : Fin (k0_t56_loop v228 v257).trips, ∀ (hinb : ∀ a, (k0_off2507 v1 k0_t51 v228 v257 k0_t56) a + S1x1x1x16x128.size a ≤ S2x2x108x128x128.size a), (Rect.unit (s := S2x2x108x128x128) (k0_off2507 v1 k0_t51 v228 v257 k0_t56) S1x1x1x16x128.size hinb).PackedRows (EltTy.packing .bf16)) ∧
  (∀ k0_t56 : Fin (k0_t56_loop v228 v257).trips, ∀ a, (k0_off2508 v1 k0_t51 v228 v257 k0_t56) a + S1x1x1x16x128.size a ≤ S2x2x108x128x128.size a) ∧
  (∀ k0_t56 : Fin (k0_t56_loop v228 v257).trips, ∀ (hinb : ∀ a, (k0_off2508 v1 k0_t51 v228 v257 k0_t56) a + S1x1x1x16x128.size a ≤ S2x2x108x128x128.size a), (Rect.unit (s := S2x2x108x128x128) (k0_off2508 v1 k0_t51 v228 v257 k0_t56) S1x1x1x16x128.size hinb).PackedRows (EltTy.packing .bf16)) ∧
  (∀ k0_t56 : Fin (k0_t56_loop v228 v257).trips, ∀ a, (k0_off2509 v1 k0_t51 v228 v257 k0_t56) a + S1x1x1x16x128.size a ≤ S2x2x108x128x128.size a) ∧
  (∀ k0_t56 : Fin (k0_t56_loop v228 v257).trips, ∀ (hinb : ∀ a, (k0_off2509 v1 k0_t51 v228 v257 k0_t56) a + S1x1x1x16x128.size a ≤ S2x2x108x128x128.size a), (Rect.unit (s := S2x2x108x128x128) (k0_off2509 v1 k0_t51 v228 v257 k0_t56) S1x1x1x16x128.size hinb).PackedRows (EltTy.packing .bf16)) ∧
  (∀ k0_t56 : Fin (k0_t56_loop v228 v257).trips, ∀ a, (k0_off2510 v1 k0_t51 v228 v257 k0_t56) a + S1x1x1x16x128.size a ≤ S2x2x108x128x128.size a) ∧
  (∀ k0_t56 : Fin (k0_t56_loop v228 v257).trips, ∀ (hinb : ∀ a, (k0_off2510 v1 k0_t51 v228 v257 k0_t56) a + S1x1x1x16x128.size a ≤ S2x2x108x128x128.size a), (Rect.unit (s := S2x2x108x128x128) (k0_off2510 v1 k0_t51 v228 v257 k0_t56) S1x1x1x16x128.size hinb).PackedRows (EltTy.packing .bf16)) ∧
  (∀ k0_t56 : Fin (k0_t56_loop v228 v257).trips, ∀ a, (k0_off2511 v1 k0_t51 v228 v257 k0_t56) a + S1x1x1x16x128.size a ≤ S2x2x108x128x128.size a) ∧
  (∀ k0_t56 : Fin (k0_t56_loop v228 v257).trips, ∀ (hinb : ∀ a, (k0_off2511 v1 k0_t51 v228 v257 k0_t56) a + S1x1x1x16x128.size a ≤ S2x2x108x128x128.size a), (Rect.unit (s := S2x2x108x128x128) (k0_off2511 v1 k0_t51 v228 v257 k0_t56) S1x1x1x16x128.size hinb).PackedRows (EltTy.packing .bf16)) ∧
  (∀ k0_t56 : Fin (k0_t56_loop v228 v257).trips, ∀ a, (k0_off2512 v1 k0_t51 v228 v257 k0_t56) a + S1x1x1x16x128.size a ≤ S2x2x108x128x128.size a) ∧
  (∀ k0_t56 : Fin (k0_t56_loop v228 v257).trips, ∀ (hinb : ∀ a, (k0_off2512 v1 k0_t51 v228 v257 k0_t56) a + S1x1x1x16x128.size a ≤ S2x2x108x128x128.size a), (Rect.unit (s := S2x2x108x128x128) (k0_off2512 v1 k0_t51 v228 v257 k0_t56) S1x1x1x16x128.size hinb).PackedRows (EltTy.packing .bf16)) ∧
  (∀ k0_t56 : Fin (k0_t56_loop v228 v257).trips, ∀ a, (k0_off2513 v1 k0_t51 v228 v257 k0_t56) a + S1x1x1x16x128.size a ≤ S2x2x108x128x128.size a) ∧
  (∀ k0_t56 : Fin (k0_t56_loop v228 v257).trips, ∀ (hinb : ∀ a, (k0_off2513 v1 k0_t51 v228 v257 k0_t56) a + S1x1x1x16x128.size a ≤ S2x2x108x128x128.size a), (Rect.unit (s := S2x2x108x128x128) (k0_off2513 v1 k0_t51 v228 v257 k0_t56) S1x1x1x16x128.size hinb).PackedRows (EltTy.packing .bf16)) ∧
  (∀ k0_t56 : Fin (k0_t56_loop v228 v257).trips, ∀ a, (k0_off2514 v1 k0_t51 v228 v257 k0_t56) a + S1x1x1x16x128.size a ≤ S2x2x108x128x128.size a) ∧
  (∀ k0_t56 : Fin (k0_t56_loop v228 v257).trips, ∀ (hinb : ∀ a, (k0_off2514 v1 k0_t51 v228 v257 k0_t56) a + S1x1x1x16x128.size a ≤ S2x2x108x128x128.size a), (Rect.unit (s := S2x2x108x128x128) (k0_off2514 v1 k0_t51 v228 v257 k0_t56) S1x1x1x16x128.size hinb).PackedRows (EltTy.packing .bf16)) ∧
  (∀ k0_t56 : Fin (k0_t56_loop v228 v257).trips, ∀ a, (k0_off2515 v1 k0_t51 v228 v257 k0_t56) a + S1x1x1x16x128.size a ≤ S2x2x108x128x128.size a) ∧
  (∀ k0_t56 : Fin (k0_t56_loop v228 v257).trips, ∀ (hinb : ∀ a, (k0_off2515 v1 k0_t51 v228 v257 k0_t56) a + S1x1x1x16x128.size a ≤ S2x2x108x128x128.size a), (Rect.unit (s := S2x2x108x128x128) (k0_off2515 v1 k0_t51 v228 v257 k0_t56) S1x1x1x16x128.size hinb).PackedRows (EltTy.packing .bf16))
def k0_chk35_18 (v1 : BitVec 32) (k0_t51 : Fin (k0_t51_loop v1).trips) (v228 : BitVec 32) (v257 : BitVec 32) : Prop :=
  (∀ k0_t56 : Fin (k0_t56_loop v228 v257).trips, ∀ a, (k0_off2516 v1 k0_t51 v228 v257 k0_t56) a + S1x1x1x16x128.size a ≤ S2x2x108x128x128.size a) ∧
  (∀ k0_t56 : Fin (k0_t56_loop v228 v257).trips, ∀ (hinb : ∀ a, (k0_off2516 v1 k0_t51 v228 v257 k0_t56) a + S1x1x1x16x128.size a ≤ S2x2x108x128x128.size a), (Rect.unit (s := S2x2x108x128x128) (k0_off2516 v1 k0_t51 v228 v257 k0_t56) S1x1x1x16x128.size hinb).PackedRows (EltTy.packing .bf16)) ∧
  (∀ k0_t56 : Fin (k0_t56_loop v228 v257).trips, ∀ a, (k0_off2517 v1 k0_t51 v228 v257 k0_t56) a + S1x1x1x16x128.size a ≤ S2x2x108x128x128.size a) ∧
  (∀ k0_t56 : Fin (k0_t56_loop v228 v257).trips, ∀ (hinb : ∀ a, (k0_off2517 v1 k0_t51 v228 v257 k0_t56) a + S1x1x1x16x128.size a ≤ S2x2x108x128x128.size a), (Rect.unit (s := S2x2x108x128x128) (k0_off2517 v1 k0_t51 v228 v257 k0_t56) S1x1x1x16x128.size hinb).PackedRows (EltTy.packing .bf16)) ∧
  (∀ k0_t56 : Fin (k0_t56_loop v228 v257).trips, ∀ a, (k0_off2518 v1 k0_t51 v228 v257 k0_t56) a + S1x1x1x16x128.size a ≤ S2x2x108x128x128.size a) ∧
  (∀ k0_t56 : Fin (k0_t56_loop v228 v257).trips, ∀ (hinb : ∀ a, (k0_off2518 v1 k0_t51 v228 v257 k0_t56) a + S1x1x1x16x128.size a ≤ S2x2x108x128x128.size a), (Rect.unit (s := S2x2x108x128x128) (k0_off2518 v1 k0_t51 v228 v257 k0_t56) S1x1x1x16x128.size hinb).PackedRows (EltTy.packing .bf16)) ∧
  (∀ k0_t56 : Fin (k0_t56_loop v228 v257).trips, ∀ a, (k0_off2519 v1 k0_t51 v228 v257 k0_t56) a + S1x1x1x16x128.size a ≤ S2x2x108x128x128.size a) ∧
  (∀ k0_t56 : Fin (k0_t56_loop v228 v257).trips, ∀ (hinb : ∀ a, (k0_off2519 v1 k0_t51 v228 v257 k0_t56) a + S1x1x1x16x128.size a ≤ S2x2x108x128x128.size a), (Rect.unit (s := S2x2x108x128x128) (k0_off2519 v1 k0_t51 v228 v257 k0_t56) S1x1x1x16x128.size hinb).PackedRows (EltTy.packing .bf16)) ∧
  (∀ k0_t56 : Fin (k0_t56_loop v228 v257).trips, ∀ a, (k0_off2520 v1 k0_t51 v228 v257 k0_t56) a + S1x1x1x16x128.size a ≤ S2x2x108x128x128.size a) ∧
  (∀ k0_t56 : Fin (k0_t56_loop v228 v257).trips, ∀ (hinb : ∀ a, (k0_off2520 v1 k0_t51 v228 v257 k0_t56) a + S1x1x1x16x128.size a ≤ S2x2x108x128x128.size a), (Rect.unit (s := S2x2x108x128x128) (k0_off2520 v1 k0_t51 v228 v257 k0_t56) S1x1x1x16x128.size hinb).PackedRows (EltTy.packing .bf16)) ∧
  (∀ k0_t56 : Fin (k0_t56_loop v228 v257).trips, ∀ a, (k0_off2521 v1 k0_t51 v228 v257 k0_t56) a + S1x1x1x16x128.size a ≤ S2x2x108x128x128.size a) ∧
  (∀ k0_t56 : Fin (k0_t56_loop v228 v257).trips, ∀ (hinb : ∀ a, (k0_off2521 v1 k0_t51 v228 v257 k0_t56) a + S1x1x1x16x128.size a ≤ S2x2x108x128x128.size a), (Rect.unit (s := S2x2x108x128x128) (k0_off2521 v1 k0_t51 v228 v257 k0_t56) S1x1x1x16x128.size hinb).PackedRows (EltTy.packing .bf16)) ∧
  (∀ k0_t56 : Fin (k0_t56_loop v228 v257).trips, ∀ a, (k0_off2522 v1 k0_t51 v228 v257 k0_t56) a + S1x1x1x16x128.size a ≤ S2x2x108x128x128.size a) ∧
  (∀ k0_t56 : Fin (k0_t56_loop v228 v257).trips, ∀ (hinb : ∀ a, (k0_off2522 v1 k0_t51 v228 v257 k0_t56) a + S1x1x1x16x128.size a ≤ S2x2x108x128x128.size a), (Rect.unit (s := S2x2x108x128x128) (k0_off2522 v1 k0_t51 v228 v257 k0_t56) S1x1x1x16x128.size hinb).PackedRows (EltTy.packing .bf16)) ∧
  (∀ k0_t56 : Fin (k0_t56_loop v228 v257).trips, ∀ a, (k0_off2523 v1 k0_t51 v228 v257 k0_t56) a + S1x1x1x16x128.size a ≤ S2x2x108x128x128.size a) ∧
  (∀ k0_t56 : Fin (k0_t56_loop v228 v257).trips, ∀ (hinb : ∀ a, (k0_off2523 v1 k0_t51 v228 v257 k0_t56) a + S1x1x1x16x128.size a ≤ S2x2x108x128x128.size a), (Rect.unit (s := S2x2x108x128x128) (k0_off2523 v1 k0_t51 v228 v257 k0_t56) S1x1x1x16x128.size hinb).PackedRows (EltTy.packing .bf16)) ∧
  (∀ k0_t56 : Fin (k0_t56_loop v228 v257).trips, ∀ a, (k0_off2524 v1 k0_t51 v228 v257 k0_t56) a + S1x1x1x16x128.size a ≤ S2x2x108x128x128.size a) ∧
  (∀ k0_t56 : Fin (k0_t56_loop v228 v257).trips, ∀ (hinb : ∀ a, (k0_off2524 v1 k0_t51 v228 v257 k0_t56) a + S1x1x1x16x128.size a ≤ S2x2x108x128x128.size a), (Rect.unit (s := S2x2x108x128x128) (k0_off2524 v1 k0_t51 v228 v257 k0_t56) S1x1x1x16x128.size hinb).PackedRows (EltTy.packing .bf16)) ∧
  (∀ k0_t56 : Fin (k0_t56_loop v228 v257).trips, ∀ a, (k0_off2525 v1 k0_t51 v228 v257 k0_t56) a + S1x1x1x16x128.size a ≤ S2x2x108x128x128.size a) ∧
  (∀ k0_t56 : Fin (k0_t56_loop v228 v257).trips, ∀ (hinb : ∀ a, (k0_off2525 v1 k0_t51 v228 v257 k0_t56) a + S1x1x1x16x128.size a ≤ S2x2x108x128x128.size a), (Rect.unit (s := S2x2x108x128x128) (k0_off2525 v1 k0_t51 v228 v257 k0_t56) S1x1x1x16x128.size hinb).PackedRows (EltTy.packing .bf16)) ∧
  (∀ k0_t56 : Fin (k0_t56_loop v228 v257).trips, ∀ a, (k0_off2526 v1 k0_t51 v228 v257 k0_t56) a + S1x1x1x16x128.size a ≤ S2x2x108x128x128.size a) ∧
  (∀ k0_t56 : Fin (k0_t56_loop v228 v257).trips, ∀ (hinb : ∀ a, (k0_off2526 v1 k0_t51 v228 v257 k0_t56) a + S1x1x1x16x128.size a ≤ S2x2x108x128x128.size a), (Rect.unit (s := S2x2x108x128x128) (k0_off2526 v1 k0_t51 v228 v257 k0_t56) S1x1x1x16x128.size hinb).PackedRows (EltTy.packing .bf16)) ∧
  (∀ k0_t56 : Fin (k0_t56_loop v228 v257).trips, ∀ a, (k0_off2527 v1 k0_t51 v228 v257 k0_t56) a + S1x1x1x16x128.size a ≤ S2x2x108x128x128.size a) ∧
  (∀ k0_t56 : Fin (k0_t56_loop v228 v257).trips, ∀ (hinb : ∀ a, (k0_off2527 v1 k0_t51 v228 v257 k0_t56) a + S1x1x1x16x128.size a ≤ S2x2x108x128x128.size a), (Rect.unit (s := S2x2x108x128x128) (k0_off2527 v1 k0_t51 v228 v257 k0_t56) S1x1x1x16x128.size hinb).PackedRows (EltTy.packing .bf16)) ∧
  (∀ k0_t56 : Fin (k0_t56_loop v228 v257).trips, ∀ a, (k0_off2528 v1 k0_t51 v228 v257 k0_t56) a + S1x1x1x16x128.size a ≤ S2x2x108x128x128.size a) ∧
  (∀ k0_t56 : Fin (k0_t56_loop v228 v257).trips, ∀ (hinb : ∀ a, (k0_off2528 v1 k0_t51 v228 v257 k0_t56) a + S1x1x1x16x128.size a ≤ S2x2x108x128x128.size a), (Rect.unit (s := S2x2x108x128x128) (k0_off2528 v1 k0_t51 v228 v257 k0_t56) S1x1x1x16x128.size hinb).PackedRows (EltTy.packing .bf16)) ∧
  (∀ k0_t56 : Fin (k0_t56_loop v228 v257).trips, ∀ a, (k0_off2529 v1 k0_t51 v228 v257 k0_t56) a + S1x1x1x16x128.size a ≤ S2x2x108x128x128.size a) ∧
  (∀ k0_t56 : Fin (k0_t56_loop v228 v257).trips, ∀ (hinb : ∀ a, (k0_off2529 v1 k0_t51 v228 v257 k0_t56) a + S1x1x1x16x128.size a ≤ S2x2x108x128x128.size a), (Rect.unit (s := S2x2x108x128x128) (k0_off2529 v1 k0_t51 v228 v257 k0_t56) S1x1x1x16x128.size hinb).PackedRows (EltTy.packing .bf16)) ∧
  (∀ k0_t56 : Fin (k0_t56_loop v228 v257).trips, ∀ a, (k0_off2530 v1 k0_t51 v228 v257 k0_t56) a + S1x1x1x16x128.size a ≤ S2x2x108x128x128.size a) ∧
  (∀ k0_t56 : Fin (k0_t56_loop v228 v257).trips, ∀ (hinb : ∀ a, (k0_off2530 v1 k0_t51 v228 v257 k0_t56) a + S1x1x1x16x128.size a ≤ S2x2x108x128x128.size a), (Rect.unit (s := S2x2x108x128x128) (k0_off2530 v1 k0_t51 v228 v257 k0_t56) S1x1x1x16x128.size hinb).PackedRows (EltTy.packing .bf16)) ∧
  (∀ k0_t56 : Fin (k0_t56_loop v228 v257).trips, ∀ a, (k0_off2531 v1 k0_t51 v228 v257 k0_t56) a + S1x1x1x16x128.size a ≤ S2x2x108x128x128.size a) ∧
  (∀ k0_t56 : Fin (k0_t56_loop v228 v257).trips, ∀ (hinb : ∀ a, (k0_off2531 v1 k0_t51 v228 v257 k0_t56) a + S1x1x1x16x128.size a ≤ S2x2x108x128x128.size a), (Rect.unit (s := S2x2x108x128x128) (k0_off2531 v1 k0_t51 v228 v257 k0_t56) S1x1x1x16x128.size hinb).PackedRows (EltTy.packing .bf16))
def k0_chk35_19 (v1 : BitVec 32) (k0_t51 : Fin (k0_t51_loop v1).trips) (v228 : BitVec 32) (v257 : BitVec 32) : Prop :=
  (∀ k0_t56 : Fin (k0_t56_loop v228 v257).trips, ∀ a, (k0_off2532 v1 k0_t51 v228 v257 k0_t56) a + S1x1x1x16x128.size a ≤ S2x2x108x128x128.size a) ∧
  (∀ k0_t56 : Fin (k0_t56_loop v228 v257).trips, ∀ (hinb : ∀ a, (k0_off2532 v1 k0_t51 v228 v257 k0_t56) a + S1x1x1x16x128.size a ≤ S2x2x108x128x128.size a), (Rect.unit (s := S2x2x108x128x128) (k0_off2532 v1 k0_t51 v228 v257 k0_t56) S1x1x1x16x128.size hinb).PackedRows (EltTy.packing .bf16)) ∧
  (∀ k0_t56 : Fin (k0_t56_loop v228 v257).trips, ∀ a, (k0_off2533 v1 k0_t51 v228 v257 k0_t56) a + S1x1x1x16x128.size a ≤ S2x2x108x128x128.size a) ∧
  (∀ k0_t56 : Fin (k0_t56_loop v228 v257).trips, ∀ (hinb : ∀ a, (k0_off2533 v1 k0_t51 v228 v257 k0_t56) a + S1x1x1x16x128.size a ≤ S2x2x108x128x128.size a), (Rect.unit (s := S2x2x108x128x128) (k0_off2533 v1 k0_t51 v228 v257 k0_t56) S1x1x1x16x128.size hinb).PackedRows (EltTy.packing .bf16)) ∧
  (∀ k0_t56 : Fin (k0_t56_loop v228 v257).trips, ∀ a, (k0_off2534 v1 k0_t51 v228 v257 k0_t56) a + S1x1x1x16x128.size a ≤ S2x2x108x128x128.size a) ∧
  (∀ k0_t56 : Fin (k0_t56_loop v228 v257).trips, ∀ (hinb : ∀ a, (k0_off2534 v1 k0_t51 v228 v257 k0_t56) a + S1x1x1x16x128.size a ≤ S2x2x108x128x128.size a), (Rect.unit (s := S2x2x108x128x128) (k0_off2534 v1 k0_t51 v228 v257 k0_t56) S1x1x1x16x128.size hinb).PackedRows (EltTy.packing .bf16)) ∧
  (∀ k0_t56 : Fin (k0_t56_loop v228 v257).trips, ∀ a, (k0_off2535 v1 k0_t51 v228 v257 k0_t56) a + S1x1x1x16x128.size a ≤ S2x2x108x128x128.size a) ∧
  (∀ k0_t56 : Fin (k0_t56_loop v228 v257).trips, ∀ (hinb : ∀ a, (k0_off2535 v1 k0_t51 v228 v257 k0_t56) a + S1x1x1x16x128.size a ≤ S2x2x108x128x128.size a), (Rect.unit (s := S2x2x108x128x128) (k0_off2535 v1 k0_t51 v228 v257 k0_t56) S1x1x1x16x128.size hinb).PackedRows (EltTy.packing .bf16)) ∧
  (∀ k0_t56 : Fin (k0_t56_loop v228 v257).trips, ∀ a, (k0_off2536 v1 k0_t51 v228 v257 k0_t56) a + S1x1x1x16x128.size a ≤ S2x2x108x128x128.size a) ∧
  (∀ k0_t56 : Fin (k0_t56_loop v228 v257).trips, ∀ (hinb : ∀ a, (k0_off2536 v1 k0_t51 v228 v257 k0_t56) a + S1x1x1x16x128.size a ≤ S2x2x108x128x128.size a), (Rect.unit (s := S2x2x108x128x128) (k0_off2536 v1 k0_t51 v228 v257 k0_t56) S1x1x1x16x128.size hinb).PackedRows (EltTy.packing .bf16)) ∧
  (∀ k0_t56 : Fin (k0_t56_loop v228 v257).trips, ∀ a, (k0_off2537 v1 k0_t51 v228 v257 k0_t56) a + S1x1x1x16x128.size a ≤ S2x2x108x128x128.size a) ∧
  (∀ k0_t56 : Fin (k0_t56_loop v228 v257).trips, ∀ (hinb : ∀ a, (k0_off2537 v1 k0_t51 v228 v257 k0_t56) a + S1x1x1x16x128.size a ≤ S2x2x108x128x128.size a), (Rect.unit (s := S2x2x108x128x128) (k0_off2537 v1 k0_t51 v228 v257 k0_t56) S1x1x1x16x128.size hinb).PackedRows (EltTy.packing .bf16)) ∧
  (∀ k0_t56 : Fin (k0_t56_loop v228 v257).trips, ∀ a, (k0_off2538 v1 k0_t51 v228 v257 k0_t56) a + S1x1x1x16x128.size a ≤ S2x2x108x128x128.size a) ∧
  (∀ k0_t56 : Fin (k0_t56_loop v228 v257).trips, ∀ (hinb : ∀ a, (k0_off2538 v1 k0_t51 v228 v257 k0_t56) a + S1x1x1x16x128.size a ≤ S2x2x108x128x128.size a), (Rect.unit (s := S2x2x108x128x128) (k0_off2538 v1 k0_t51 v228 v257 k0_t56) S1x1x1x16x128.size hinb).PackedRows (EltTy.packing .bf16)) ∧
  (∀ k0_t56 : Fin (k0_t56_loop v228 v257).trips, ∀ a, (k0_off2539 v1 k0_t51 v228 v257 k0_t56) a + S1x1x1x16x128.size a ≤ S2x2x108x128x128.size a) ∧
  (∀ k0_t56 : Fin (k0_t56_loop v228 v257).trips, ∀ (hinb : ∀ a, (k0_off2539 v1 k0_t51 v228 v257 k0_t56) a + S1x1x1x16x128.size a ≤ S2x2x108x128x128.size a), (Rect.unit (s := S2x2x108x128x128) (k0_off2539 v1 k0_t51 v228 v257 k0_t56) S1x1x1x16x128.size hinb).PackedRows (EltTy.packing .bf16)) ∧
  (∀ k0_t56 : Fin (k0_t56_loop v228 v257).trips, ∀ a, (k0_off2540 v1 k0_t51 v228 v257 k0_t56) a + S1x1x1x16x128.size a ≤ S2x2x108x128x128.size a) ∧
  (∀ k0_t56 : Fin (k0_t56_loop v228 v257).trips, ∀ (hinb : ∀ a, (k0_off2540 v1 k0_t51 v228 v257 k0_t56) a + S1x1x1x16x128.size a ≤ S2x2x108x128x128.size a), (Rect.unit (s := S2x2x108x128x128) (k0_off2540 v1 k0_t51 v228 v257 k0_t56) S1x1x1x16x128.size hinb).PackedRows (EltTy.packing .bf16)) ∧
  (∀ k0_t56 : Fin (k0_t56_loop v228 v257).trips, ∀ a, (k0_off2541 v1 k0_t51 v228 v257 k0_t56) a + S1x1x1x16x128.size a ≤ S2x2x108x128x128.size a) ∧
  (∀ k0_t56 : Fin (k0_t56_loop v228 v257).trips, ∀ (hinb : ∀ a, (k0_off2541 v1 k0_t51 v228 v257 k0_t56) a + S1x1x1x16x128.size a ≤ S2x2x108x128x128.size a), (Rect.unit (s := S2x2x108x128x128) (k0_off2541 v1 k0_t51 v228 v257 k0_t56) S1x1x1x16x128.size hinb).PackedRows (EltTy.packing .bf16)) ∧
  (∀ k0_t56 : Fin (k0_t56_loop v228 v257).trips, ∀ a, (k0_off2542 v1 k0_t51 v228 v257 k0_t56) a + S1x1x1x16x128.size a ≤ S2x2x108x128x128.size a) ∧
  (∀ k0_t56 : Fin (k0_t56_loop v228 v257).trips, ∀ (hinb : ∀ a, (k0_off2542 v1 k0_t51 v228 v257 k0_t56) a + S1x1x1x16x128.size a ≤ S2x2x108x128x128.size a), (Rect.unit (s := S2x2x108x128x128) (k0_off2542 v1 k0_t51 v228 v257 k0_t56) S1x1x1x16x128.size hinb).PackedRows (EltTy.packing .bf16)) ∧
  (∀ k0_t56 : Fin (k0_t56_loop v228 v257).trips, ∀ a, (k0_off2543 v1 k0_t51 v228 v257 k0_t56) a + S1x1x1x16x128.size a ≤ S2x2x108x128x128.size a) ∧
  (∀ k0_t56 : Fin (k0_t56_loop v228 v257).trips, ∀ (hinb : ∀ a, (k0_off2543 v1 k0_t51 v228 v257 k0_t56) a + S1x1x1x16x128.size a ≤ S2x2x108x128x128.size a), (Rect.unit (s := S2x2x108x128x128) (k0_off2543 v1 k0_t51 v228 v257 k0_t56) S1x1x1x16x128.size hinb).PackedRows (EltTy.packing .bf16)) ∧
  (∀ k0_t56 : Fin (k0_t56_loop v228 v257).trips, ∀ a, (k0_off2544 v1 k0_t51 v228 v257 k0_t56) a + S1x1x1x16x128.size a ≤ S2x2x108x128x128.size a) ∧
  (∀ k0_t56 : Fin (k0_t56_loop v228 v257).trips, ∀ (hinb : ∀ a, (k0_off2544 v1 k0_t51 v228 v257 k0_t56) a + S1x1x1x16x128.size a ≤ S2x2x108x128x128.size a), (Rect.unit (s := S2x2x108x128x128) (k0_off2544 v1 k0_t51 v228 v257 k0_t56) S1x1x1x16x128.size hinb).PackedRows (EltTy.packing .bf16)) ∧
  (∀ k0_t56 : Fin (k0_t56_loop v228 v257).trips, ∀ a, (k0_off2545 v1 k0_t51 v228 v257 k0_t56) a + S1x1x1x16x128.size a ≤ S2x2x108x128x128.size a) ∧
  (∀ k0_t56 : Fin (k0_t56_loop v228 v257).trips, ∀ (hinb : ∀ a, (k0_off2545 v1 k0_t51 v228 v257 k0_t56) a + S1x1x1x16x128.size a ≤ S2x2x108x128x128.size a), (Rect.unit (s := S2x2x108x128x128) (k0_off2545 v1 k0_t51 v228 v257 k0_t56) S1x1x1x16x128.size hinb).PackedRows (EltTy.packing .bf16)) ∧
  (∀ k0_t56 : Fin (k0_t56_loop v228 v257).trips, ∀ a, (k0_off2546 v1 k0_t51 v228 v257 k0_t56) a + S1x1x1x16x128.size a ≤ S2x2x108x128x128.size a) ∧
  (∀ k0_t56 : Fin (k0_t56_loop v228 v257).trips, ∀ (hinb : ∀ a, (k0_off2546 v1 k0_t51 v228 v257 k0_t56) a + S1x1x1x16x128.size a ≤ S2x2x108x128x128.size a), (Rect.unit (s := S2x2x108x128x128) (k0_off2546 v1 k0_t51 v228 v257 k0_t56) S1x1x1x16x128.size hinb).PackedRows (EltTy.packing .bf16)) ∧
  (∀ k0_t56 : Fin (k0_t56_loop v228 v257).trips, ∀ a, (k0_off2547 v1 k0_t51 v228 v257 k0_t56) a + S1x1x1x16x128.size a ≤ S2x2x108x128x128.size a) ∧
  (∀ k0_t56 : Fin (k0_t56_loop v228 v257).trips, ∀ (hinb : ∀ a, (k0_off2547 v1 k0_t51 v228 v257 k0_t56) a + S1x1x1x16x128.size a ≤ S2x2x108x128x128.size a), (Rect.unit (s := S2x2x108x128x128) (k0_off2547 v1 k0_t51 v228 v257 k0_t56) S1x1x1x16x128.size hinb).PackedRows (EltTy.packing .bf16))
def k0_chk35_20 (v1 : BitVec 32) (k0_t51 : Fin (k0_t51_loop v1).trips) (v228 : BitVec 32) (v257 : BitVec 32) : Prop :=
  (∀ k0_t56 : Fin (k0_t56_loop v228 v257).trips, ∀ a, (k0_off2548 v1 k0_t51 v228 v257 k0_t56) a + S1x1x1x16x128.size a ≤ S2x2x108x128x128.size a) ∧
  (∀ k0_t56 : Fin (k0_t56_loop v228 v257).trips, ∀ (hinb : ∀ a, (k0_off2548 v1 k0_t51 v228 v257 k0_t56) a + S1x1x1x16x128.size a ≤ S2x2x108x128x128.size a), (Rect.unit (s := S2x2x108x128x128) (k0_off2548 v1 k0_t51 v228 v257 k0_t56) S1x1x1x16x128.size hinb).PackedRows (EltTy.packing .bf16)) ∧
  (∀ k0_t56 : Fin (k0_t56_loop v228 v257).trips, ∀ a, (k0_off2549 v1 k0_t51 v228 v257 k0_t56) a + S1x1x1x16x128.size a ≤ S2x2x108x128x128.size a) ∧
  (∀ k0_t56 : Fin (k0_t56_loop v228 v257).trips, ∀ (hinb : ∀ a, (k0_off2549 v1 k0_t51 v228 v257 k0_t56) a + S1x1x1x16x128.size a ≤ S2x2x108x128x128.size a), (Rect.unit (s := S2x2x108x128x128) (k0_off2549 v1 k0_t51 v228 v257 k0_t56) S1x1x1x16x128.size hinb).PackedRows (EltTy.packing .bf16)) ∧
  (∀ k0_t56 : Fin (k0_t56_loop v228 v257).trips, ∀ a, (k0_off2550 v1 k0_t51 v228 v257 k0_t56) a + S1x1x1x16x128.size a ≤ S2x2x108x128x128.size a) ∧
  (∀ k0_t56 : Fin (k0_t56_loop v228 v257).trips, ∀ (hinb : ∀ a, (k0_off2550 v1 k0_t51 v228 v257 k0_t56) a + S1x1x1x16x128.size a ≤ S2x2x108x128x128.size a), (Rect.unit (s := S2x2x108x128x128) (k0_off2550 v1 k0_t51 v228 v257 k0_t56) S1x1x1x16x128.size hinb).PackedRows (EltTy.packing .bf16)) ∧
  (∀ k0_t56 : Fin (k0_t56_loop v228 v257).trips, ∀ a, (k0_off2551 v1 k0_t51 v228 v257 k0_t56) a + S1x1x1x16x128.size a ≤ S2x2x108x128x128.size a) ∧
  (∀ k0_t56 : Fin (k0_t56_loop v228 v257).trips, ∀ (hinb : ∀ a, (k0_off2551 v1 k0_t51 v228 v257 k0_t56) a + S1x1x1x16x128.size a ≤ S2x2x108x128x128.size a), (Rect.unit (s := S2x2x108x128x128) (k0_off2551 v1 k0_t51 v228 v257 k0_t56) S1x1x1x16x128.size hinb).PackedRows (EltTy.packing .bf16)) ∧
  (∀ k0_t56 : Fin (k0_t56_loop v228 v257).trips, ∀ a, (k0_off2552 v1 k0_t51 v228 v257 k0_t56) a + S1x1x1x16x128.size a ≤ S2x2x108x128x128.size a) ∧
  (∀ k0_t56 : Fin (k0_t56_loop v228 v257).trips, ∀ (hinb : ∀ a, (k0_off2552 v1 k0_t51 v228 v257 k0_t56) a + S1x1x1x16x128.size a ≤ S2x2x108x128x128.size a), (Rect.unit (s := S2x2x108x128x128) (k0_off2552 v1 k0_t51 v228 v257 k0_t56) S1x1x1x16x128.size hinb).PackedRows (EltTy.packing .bf16)) ∧
  (∀ k0_t56 : Fin (k0_t56_loop v228 v257).trips, ∀ a, (k0_off2553 v1 k0_t51 v228 v257 k0_t56) a + S1x1x1x16x128.size a ≤ S2x2x108x128x128.size a) ∧
  (∀ k0_t56 : Fin (k0_t56_loop v228 v257).trips, ∀ (hinb : ∀ a, (k0_off2553 v1 k0_t51 v228 v257 k0_t56) a + S1x1x1x16x128.size a ≤ S2x2x108x128x128.size a), (Rect.unit (s := S2x2x108x128x128) (k0_off2553 v1 k0_t51 v228 v257 k0_t56) S1x1x1x16x128.size hinb).PackedRows (EltTy.packing .bf16)) ∧
  (∀ k0_t56 : Fin (k0_t56_loop v228 v257).trips, ∀ a, (k0_off2554 v1 k0_t51 v228 v257 k0_t56) a + S1x1x1x16x128.size a ≤ S2x2x108x128x128.size a) ∧
  (∀ k0_t56 : Fin (k0_t56_loop v228 v257).trips, ∀ (hinb : ∀ a, (k0_off2554 v1 k0_t51 v228 v257 k0_t56) a + S1x1x1x16x128.size a ≤ S2x2x108x128x128.size a), (Rect.unit (s := S2x2x108x128x128) (k0_off2554 v1 k0_t51 v228 v257 k0_t56) S1x1x1x16x128.size hinb).PackedRows (EltTy.packing .bf16)) ∧
  (∀ k0_t56 : Fin (k0_t56_loop v228 v257).trips, ∀ a, (k0_off2555 v1 k0_t51 v228 v257 k0_t56) a + S1x1x1x16x128.size a ≤ S2x2x108x128x128.size a) ∧
  (∀ k0_t56 : Fin (k0_t56_loop v228 v257).trips, ∀ (hinb : ∀ a, (k0_off2555 v1 k0_t51 v228 v257 k0_t56) a + S1x1x1x16x128.size a ≤ S2x2x108x128x128.size a), (Rect.unit (s := S2x2x108x128x128) (k0_off2555 v1 k0_t51 v228 v257 k0_t56) S1x1x1x16x128.size hinb).PackedRows (EltTy.packing .bf16)) ∧
  (∀ k0_t56 : Fin (k0_t56_loop v228 v257).trips, ∀ a, (k0_off2556 v1 k0_t51 v228 v257 k0_t56) a + S1x1x1x16x128.size a ≤ S2x2x108x128x128.size a) ∧
  (∀ k0_t56 : Fin (k0_t56_loop v228 v257).trips, ∀ (hinb : ∀ a, (k0_off2556 v1 k0_t51 v228 v257 k0_t56) a + S1x1x1x16x128.size a ≤ S2x2x108x128x128.size a), (Rect.unit (s := S2x2x108x128x128) (k0_off2556 v1 k0_t51 v228 v257 k0_t56) S1x1x1x16x128.size hinb).PackedRows (EltTy.packing .bf16)) ∧
  (∀ k0_t56 : Fin (k0_t56_loop v228 v257).trips, ∀ a, (k0_off2557 v1 k0_t51 v228 v257 k0_t56) a + S1x1x1x16x128.size a ≤ S2x2x108x128x128.size a) ∧
  (∀ k0_t56 : Fin (k0_t56_loop v228 v257).trips, ∀ (hinb : ∀ a, (k0_off2557 v1 k0_t51 v228 v257 k0_t56) a + S1x1x1x16x128.size a ≤ S2x2x108x128x128.size a), (Rect.unit (s := S2x2x108x128x128) (k0_off2557 v1 k0_t51 v228 v257 k0_t56) S1x1x1x16x128.size hinb).PackedRows (EltTy.packing .bf16)) ∧
  (∀ k0_t56 : Fin (k0_t56_loop v228 v257).trips, ∀ a, (k0_off2558 v1 k0_t51 v228 v257 k0_t56) a + S1x1x1x16x128.size a ≤ S2x2x108x128x128.size a) ∧
  (∀ k0_t56 : Fin (k0_t56_loop v228 v257).trips, ∀ (hinb : ∀ a, (k0_off2558 v1 k0_t51 v228 v257 k0_t56) a + S1x1x1x16x128.size a ≤ S2x2x108x128x128.size a), (Rect.unit (s := S2x2x108x128x128) (k0_off2558 v1 k0_t51 v228 v257 k0_t56) S1x1x1x16x128.size hinb).PackedRows (EltTy.packing .bf16)) ∧
  (∀ k0_t56 : Fin (k0_t56_loop v228 v257).trips, ∀ a, (k0_off2559 v1 k0_t51 v228 v257 k0_t56) a + S1x1x1x16x128.size a ≤ S2x2x108x128x128.size a) ∧
  (∀ k0_t56 : Fin (k0_t56_loop v228 v257).trips, ∀ (hinb : ∀ a, (k0_off2559 v1 k0_t51 v228 v257 k0_t56) a + S1x1x1x16x128.size a ≤ S2x2x108x128x128.size a), (Rect.unit (s := S2x2x108x128x128) (k0_off2559 v1 k0_t51 v228 v257 k0_t56) S1x1x1x16x128.size hinb).PackedRows (EltTy.packing .bf16)) ∧
  (∀ k0_t56 : Fin (k0_t56_loop v228 v257).trips, ∀ a, (k0_off2560 v1 k0_t51 v228 v257 k0_t56) a + S1x1x1x16x128.size a ≤ S2x2x108x128x128.size a) ∧
  (∀ k0_t56 : Fin (k0_t56_loop v228 v257).trips, ∀ (hinb : ∀ a, (k0_off2560 v1 k0_t51 v228 v257 k0_t56) a + S1x1x1x16x128.size a ≤ S2x2x108x128x128.size a), (Rect.unit (s := S2x2x108x128x128) (k0_off2560 v1 k0_t51 v228 v257 k0_t56) S1x1x1x16x128.size hinb).PackedRows (EltTy.packing .bf16)) ∧
  (∀ k0_t56 : Fin (k0_t56_loop v228 v257).trips, ∀ a, (k0_off2561 v1 k0_t51 v228 v257 k0_t56) a + S1x1x1x16x128.size a ≤ S2x2x108x128x128.size a) ∧
  (∀ k0_t56 : Fin (k0_t56_loop v228 v257).trips, ∀ (hinb : ∀ a, (k0_off2561 v1 k0_t51 v228 v257 k0_t56) a + S1x1x1x16x128.size a ≤ S2x2x108x128x128.size a), (Rect.unit (s := S2x2x108x128x128) (k0_off2561 v1 k0_t51 v228 v257 k0_t56) S1x1x1x16x128.size hinb).PackedRows (EltTy.packing .bf16)) ∧
  (∀ k0_t56 : Fin (k0_t56_loop v228 v257).trips, ∀ a, (k0_off2562 v1 k0_t51 v228 v257 k0_t56) a + S1x1x1x16x128.size a ≤ S2x2x108x128x128.size a) ∧
  (∀ k0_t56 : Fin (k0_t56_loop v228 v257).trips, ∀ (hinb : ∀ a, (k0_off2562 v1 k0_t51 v228 v257 k0_t56) a + S1x1x1x16x128.size a ≤ S2x2x108x128x128.size a), (Rect.unit (s := S2x2x108x128x128) (k0_off2562 v1 k0_t51 v228 v257 k0_t56) S1x1x1x16x128.size hinb).PackedRows (EltTy.packing .bf16)) ∧
  (∀ k0_t56 : Fin (k0_t56_loop v228 v257).trips, ∀ a, (k0_off2563 v1 k0_t51 v228 v257 k0_t56) a + S1x1x1x16x128.size a ≤ S2x2x108x128x128.size a) ∧
  (∀ k0_t56 : Fin (k0_t56_loop v228 v257).trips, ∀ (hinb : ∀ a, (k0_off2563 v1 k0_t51 v228 v257 k0_t56) a + S1x1x1x16x128.size a ≤ S2x2x108x128x128.size a), (Rect.unit (s := S2x2x108x128x128) (k0_off2563 v1 k0_t51 v228 v257 k0_t56) S1x1x1x16x128.size hinb).PackedRows (EltTy.packing .bf16))
def k0_chk35_21 (v1 : BitVec 32) (k0_t51 : Fin (k0_t51_loop v1).trips) (v228 : BitVec 32) (v257 : BitVec 32) : Prop :=
  (∀ k0_t56 : Fin (k0_t56_loop v228 v257).trips, ∀ a, (k0_off2564 v1 k0_t51 v228 v257 k0_t56) a + S1x1x1x16x128.size a ≤ S2x2x108x128x128.size a) ∧
  (∀ k0_t56 : Fin (k0_t56_loop v228 v257).trips, ∀ (hinb : ∀ a, (k0_off2564 v1 k0_t51 v228 v257 k0_t56) a + S1x1x1x16x128.size a ≤ S2x2x108x128x128.size a), (Rect.unit (s := S2x2x108x128x128) (k0_off2564 v1 k0_t51 v228 v257 k0_t56) S1x1x1x16x128.size hinb).PackedRows (EltTy.packing .bf16)) ∧
  (∀ k0_t56 : Fin (k0_t56_loop v228 v257).trips, ∀ a, (k0_off2565 v1 k0_t51 v228 v257 k0_t56) a + S1x1x1x16x128.size a ≤ S2x2x108x128x128.size a) ∧
  (∀ k0_t56 : Fin (k0_t56_loop v228 v257).trips, ∀ (hinb : ∀ a, (k0_off2565 v1 k0_t51 v228 v257 k0_t56) a + S1x1x1x16x128.size a ≤ S2x2x108x128x128.size a), (Rect.unit (s := S2x2x108x128x128) (k0_off2565 v1 k0_t51 v228 v257 k0_t56) S1x1x1x16x128.size hinb).PackedRows (EltTy.packing .bf16)) ∧
  (∀ k0_t56 : Fin (k0_t56_loop v228 v257).trips, ∀ a, (k0_off2566 v1 k0_t51 v228 v257 k0_t56) a + S1x1x1x16x128.size a ≤ S2x2x108x128x128.size a) ∧
  (∀ k0_t56 : Fin (k0_t56_loop v228 v257).trips, ∀ (hinb : ∀ a, (k0_off2566 v1 k0_t51 v228 v257 k0_t56) a + S1x1x1x16x128.size a ≤ S2x2x108x128x128.size a), (Rect.unit (s := S2x2x108x128x128) (k0_off2566 v1 k0_t51 v228 v257 k0_t56) S1x1x1x16x128.size hinb).PackedRows (EltTy.packing .bf16)) ∧
  (∀ k0_t56 : Fin (k0_t56_loop v228 v257).trips, ∀ a, (k0_off2567 v1 k0_t51 v228 v257 k0_t56) a + S1x1x1x16x128.size a ≤ S2x2x108x128x128.size a) ∧
  (∀ k0_t56 : Fin (k0_t56_loop v228 v257).trips, ∀ (hinb : ∀ a, (k0_off2567 v1 k0_t51 v228 v257 k0_t56) a + S1x1x1x16x128.size a ≤ S2x2x108x128x128.size a), (Rect.unit (s := S2x2x108x128x128) (k0_off2567 v1 k0_t51 v228 v257 k0_t56) S1x1x1x16x128.size hinb).PackedRows (EltTy.packing .bf16)) ∧
  (∀ k0_t56 : Fin (k0_t56_loop v228 v257).trips, ∀ a, (k0_off2568 v1 k0_t51 v228 v257 k0_t56) a + S1x1x1x16x128.size a ≤ S2x2x108x128x128.size a) ∧
  (∀ k0_t56 : Fin (k0_t56_loop v228 v257).trips, ∀ (hinb : ∀ a, (k0_off2568 v1 k0_t51 v228 v257 k0_t56) a + S1x1x1x16x128.size a ≤ S2x2x108x128x128.size a), (Rect.unit (s := S2x2x108x128x128) (k0_off2568 v1 k0_t51 v228 v257 k0_t56) S1x1x1x16x128.size hinb).PackedRows (EltTy.packing .bf16)) ∧
  (∀ k0_t56 : Fin (k0_t56_loop v228 v257).trips, ∀ a, (k0_off2569 v1 k0_t51 v228 v257 k0_t56) a + S1x1x1x16x128.size a ≤ S2x2x108x128x128.size a) ∧
  (∀ k0_t56 : Fin (k0_t56_loop v228 v257).trips, ∀ (hinb : ∀ a, (k0_off2569 v1 k0_t51 v228 v257 k0_t56) a + S1x1x1x16x128.size a ≤ S2x2x108x128x128.size a), (Rect.unit (s := S2x2x108x128x128) (k0_off2569 v1 k0_t51 v228 v257 k0_t56) S1x1x1x16x128.size hinb).PackedRows (EltTy.packing .bf16)) ∧
  (∀ k0_t56 : Fin (k0_t56_loop v228 v257).trips, ∀ a, (k0_off2570 v1 k0_t51 v228 v257 k0_t56) a + S1x1x1x16x128.size a ≤ S2x2x108x128x128.size a) ∧
  (∀ k0_t56 : Fin (k0_t56_loop v228 v257).trips, ∀ (hinb : ∀ a, (k0_off2570 v1 k0_t51 v228 v257 k0_t56) a + S1x1x1x16x128.size a ≤ S2x2x108x128x128.size a), (Rect.unit (s := S2x2x108x128x128) (k0_off2570 v1 k0_t51 v228 v257 k0_t56) S1x1x1x16x128.size hinb).PackedRows (EltTy.packing .bf16)) ∧
  (∀ k0_t56 : Fin (k0_t56_loop v228 v257).trips, ∀ a, (k0_off2571 v1 k0_t51 v228 v257 k0_t56) a + S1x1x1x16x128.size a ≤ S2x2x108x128x128.size a) ∧
  (∀ k0_t56 : Fin (k0_t56_loop v228 v257).trips, ∀ (hinb : ∀ a, (k0_off2571 v1 k0_t51 v228 v257 k0_t56) a + S1x1x1x16x128.size a ≤ S2x2x108x128x128.size a), (Rect.unit (s := S2x2x108x128x128) (k0_off2571 v1 k0_t51 v228 v257 k0_t56) S1x1x1x16x128.size hinb).PackedRows (EltTy.packing .bf16)) ∧
  (∀ k0_t56 : Fin (k0_t56_loop v228 v257).trips, ∀ a, (k0_off2572 v1 k0_t51 v228 v257 k0_t56) a + S1x1x1x16x128.size a ≤ S2x2x108x128x128.size a) ∧
  (∀ k0_t56 : Fin (k0_t56_loop v228 v257).trips, ∀ (hinb : ∀ a, (k0_off2572 v1 k0_t51 v228 v257 k0_t56) a + S1x1x1x16x128.size a ≤ S2x2x108x128x128.size a), (Rect.unit (s := S2x2x108x128x128) (k0_off2572 v1 k0_t51 v228 v257 k0_t56) S1x1x1x16x128.size hinb).PackedRows (EltTy.packing .bf16)) ∧
  (∀ k0_t56 : Fin (k0_t56_loop v228 v257).trips, ∀ a, (k0_off2573 v1 k0_t51 v228 v257 k0_t56) a + S1x1x1x16x128.size a ≤ S2x2x108x128x128.size a) ∧
  (∀ k0_t56 : Fin (k0_t56_loop v228 v257).trips, ∀ (hinb : ∀ a, (k0_off2573 v1 k0_t51 v228 v257 k0_t56) a + S1x1x1x16x128.size a ≤ S2x2x108x128x128.size a), (Rect.unit (s := S2x2x108x128x128) (k0_off2573 v1 k0_t51 v228 v257 k0_t56) S1x1x1x16x128.size hinb).PackedRows (EltTy.packing .bf16)) ∧
  (∀ k0_t56 : Fin (k0_t56_loop v228 v257).trips, ∀ a, (k0_off2574 v1 k0_t51 v228 v257 k0_t56) a + S1x1x1x16x128.size a ≤ S2x2x108x128x128.size a) ∧
  (∀ k0_t56 : Fin (k0_t56_loop v228 v257).trips, ∀ (hinb : ∀ a, (k0_off2574 v1 k0_t51 v228 v257 k0_t56) a + S1x1x1x16x128.size a ≤ S2x2x108x128x128.size a), (Rect.unit (s := S2x2x108x128x128) (k0_off2574 v1 k0_t51 v228 v257 k0_t56) S1x1x1x16x128.size hinb).PackedRows (EltTy.packing .bf16)) ∧
  (∀ k0_t56 : Fin (k0_t56_loop v228 v257).trips, ∀ a, (k0_off2575 v1 k0_t51 v228 v257 k0_t56) a + S1x1x1x16x128.size a ≤ S2x2x108x128x128.size a) ∧
  (∀ k0_t56 : Fin (k0_t56_loop v228 v257).trips, ∀ (hinb : ∀ a, (k0_off2575 v1 k0_t51 v228 v257 k0_t56) a + S1x1x1x16x128.size a ≤ S2x2x108x128x128.size a), (Rect.unit (s := S2x2x108x128x128) (k0_off2575 v1 k0_t51 v228 v257 k0_t56) S1x1x1x16x128.size hinb).PackedRows (EltTy.packing .bf16)) ∧
  (∀ k0_t56 : Fin (k0_t56_loop v228 v257).trips, ∀ a, (k0_off2576 v1 k0_t51 v228 v257 k0_t56) a + S1x1x1x16x128.size a ≤ S2x2x108x128x128.size a) ∧
  (∀ k0_t56 : Fin (k0_t56_loop v228 v257).trips, ∀ (hinb : ∀ a, (k0_off2576 v1 k0_t51 v228 v257 k0_t56) a + S1x1x1x16x128.size a ≤ S2x2x108x128x128.size a), (Rect.unit (s := S2x2x108x128x128) (k0_off2576 v1 k0_t51 v228 v257 k0_t56) S1x1x1x16x128.size hinb).PackedRows (EltTy.packing .bf16)) ∧
  (∀ k0_t56 : Fin (k0_t56_loop v228 v257).trips, ∀ a, (k0_off2577 v1 k0_t51 v228 v257 k0_t56) a + S1x1x1x16x128.size a ≤ S2x2x108x128x128.size a) ∧
  (∀ k0_t56 : Fin (k0_t56_loop v228 v257).trips, ∀ (hinb : ∀ a, (k0_off2577 v1 k0_t51 v228 v257 k0_t56) a + S1x1x1x16x128.size a ≤ S2x2x108x128x128.size a), (Rect.unit (s := S2x2x108x128x128) (k0_off2577 v1 k0_t51 v228 v257 k0_t56) S1x1x1x16x128.size hinb).PackedRows (EltTy.packing .bf16)) ∧
  (∀ k0_t56 : Fin (k0_t56_loop v228 v257).trips, ∀ a, (k0_off2578 v1 k0_t51 v228 v257 k0_t56) a + S1x1x1x16x128.size a ≤ S2x2x108x128x128.size a) ∧
  (∀ k0_t56 : Fin (k0_t56_loop v228 v257).trips, ∀ (hinb : ∀ a, (k0_off2578 v1 k0_t51 v228 v257 k0_t56) a + S1x1x1x16x128.size a ≤ S2x2x108x128x128.size a), (Rect.unit (s := S2x2x108x128x128) (k0_off2578 v1 k0_t51 v228 v257 k0_t56) S1x1x1x16x128.size hinb).PackedRows (EltTy.packing .bf16)) ∧
  (∀ k0_t56 : Fin (k0_t56_loop v228 v257).trips, ∀ a, (k0_off2579 v1 k0_t51 v228 v257 k0_t56) a + S1x1x1x16x128.size a ≤ S2x2x108x128x128.size a) ∧
  (∀ k0_t56 : Fin (k0_t56_loop v228 v257).trips, ∀ (hinb : ∀ a, (k0_off2579 v1 k0_t51 v228 v257 k0_t56) a + S1x1x1x16x128.size a ≤ S2x2x108x128x128.size a), (Rect.unit (s := S2x2x108x128x128) (k0_off2579 v1 k0_t51 v228 v257 k0_t56) S1x1x1x16x128.size hinb).PackedRows (EltTy.packing .bf16))
def k0_chk35_22 (v1 : BitVec 32) (k0_t51 : Fin (k0_t51_loop v1).trips) (v228 : BitVec 32) (v257 : BitVec 32) : Prop :=
  (∀ k0_t56 : Fin (k0_t56_loop v228 v257).trips, ∀ a, (k0_off2580 v1 k0_t51 v228 v257 k0_t56) a + S1x1x1x16x128.size a ≤ S2x2x108x128x128.size a) ∧
  (∀ k0_t56 : Fin (k0_t56_loop v228 v257).trips, ∀ (hinb : ∀ a, (k0_off2580 v1 k0_t51 v228 v257 k0_t56) a + S1x1x1x16x128.size a ≤ S2x2x108x128x128.size a), (Rect.unit (s := S2x2x108x128x128) (k0_off2580 v1 k0_t51 v228 v257 k0_t56) S1x1x1x16x128.size hinb).PackedRows (EltTy.packing .bf16)) ∧
  (∀ k0_t56 : Fin (k0_t56_loop v228 v257).trips, ∀ a, (k0_off2581 v1 k0_t51 v228 v257 k0_t56) a + S1x1x1x16x128.size a ≤ S2x2x108x128x128.size a) ∧
  (∀ k0_t56 : Fin (k0_t56_loop v228 v257).trips, ∀ (hinb : ∀ a, (k0_off2581 v1 k0_t51 v228 v257 k0_t56) a + S1x1x1x16x128.size a ≤ S2x2x108x128x128.size a), (Rect.unit (s := S2x2x108x128x128) (k0_off2581 v1 k0_t51 v228 v257 k0_t56) S1x1x1x16x128.size hinb).PackedRows (EltTy.packing .bf16)) ∧
  (∀ k0_t56 : Fin (k0_t56_loop v228 v257).trips, ∀ a, (k0_off2582 v1 k0_t51 v228 v257 k0_t56) a + S1x1x1x16x128.size a ≤ S2x2x108x128x128.size a) ∧
  (∀ k0_t56 : Fin (k0_t56_loop v228 v257).trips, ∀ (hinb : ∀ a, (k0_off2582 v1 k0_t51 v228 v257 k0_t56) a + S1x1x1x16x128.size a ≤ S2x2x108x128x128.size a), (Rect.unit (s := S2x2x108x128x128) (k0_off2582 v1 k0_t51 v228 v257 k0_t56) S1x1x1x16x128.size hinb).PackedRows (EltTy.packing .bf16)) ∧
  (∀ k0_t56 : Fin (k0_t56_loop v228 v257).trips, ∀ a, (k0_off2583 v1 k0_t51 v228 v257 k0_t56) a + S1x1x1x16x128.size a ≤ S2x2x108x128x128.size a) ∧
  (∀ k0_t56 : Fin (k0_t56_loop v228 v257).trips, ∀ (hinb : ∀ a, (k0_off2583 v1 k0_t51 v228 v257 k0_t56) a + S1x1x1x16x128.size a ≤ S2x2x108x128x128.size a), (Rect.unit (s := S2x2x108x128x128) (k0_off2583 v1 k0_t51 v228 v257 k0_t56) S1x1x1x16x128.size hinb).PackedRows (EltTy.packing .bf16)) ∧
  (∀ k0_t56 : Fin (k0_t56_loop v228 v257).trips, ∀ a, (k0_off2584 v1 k0_t51 v228 v257 k0_t56) a + S1x1x1x16x128.size a ≤ S2x2x108x128x128.size a) ∧
  (∀ k0_t56 : Fin (k0_t56_loop v228 v257).trips, ∀ (hinb : ∀ a, (k0_off2584 v1 k0_t51 v228 v257 k0_t56) a + S1x1x1x16x128.size a ≤ S2x2x108x128x128.size a), (Rect.unit (s := S2x2x108x128x128) (k0_off2584 v1 k0_t51 v228 v257 k0_t56) S1x1x1x16x128.size hinb).PackedRows (EltTy.packing .bf16)) ∧
  (∀ k0_t56 : Fin (k0_t56_loop v228 v257).trips, ∀ a, (k0_off2585 v1 k0_t51 v228 v257 k0_t56) a + S1x1x1x16x128.size a ≤ S2x2x108x128x128.size a) ∧
  (∀ k0_t56 : Fin (k0_t56_loop v228 v257).trips, ∀ (hinb : ∀ a, (k0_off2585 v1 k0_t51 v228 v257 k0_t56) a + S1x1x1x16x128.size a ≤ S2x2x108x128x128.size a), (Rect.unit (s := S2x2x108x128x128) (k0_off2585 v1 k0_t51 v228 v257 k0_t56) S1x1x1x16x128.size hinb).PackedRows (EltTy.packing .bf16)) ∧
  (∀ k0_t56 : Fin (k0_t56_loop v228 v257).trips, ∀ a, (k0_off2586 v1 k0_t51 v228 v257 k0_t56) a + S1x1x1x16x128.size a ≤ S2x2x108x128x128.size a) ∧
  (∀ k0_t56 : Fin (k0_t56_loop v228 v257).trips, ∀ (hinb : ∀ a, (k0_off2586 v1 k0_t51 v228 v257 k0_t56) a + S1x1x1x16x128.size a ≤ S2x2x108x128x128.size a), (Rect.unit (s := S2x2x108x128x128) (k0_off2586 v1 k0_t51 v228 v257 k0_t56) S1x1x1x16x128.size hinb).PackedRows (EltTy.packing .bf16)) ∧
  (∀ k0_t56 : Fin (k0_t56_loop v228 v257).trips, ∀ a, (k0_off2587 v1 k0_t51 v228 v257 k0_t56) a + S1x1x1x16x128.size a ≤ S2x2x108x128x128.size a) ∧
  (∀ k0_t56 : Fin (k0_t56_loop v228 v257).trips, ∀ (hinb : ∀ a, (k0_off2587 v1 k0_t51 v228 v257 k0_t56) a + S1x1x1x16x128.size a ≤ S2x2x108x128x128.size a), (Rect.unit (s := S2x2x108x128x128) (k0_off2587 v1 k0_t51 v228 v257 k0_t56) S1x1x1x16x128.size hinb).PackedRows (EltTy.packing .bf16)) ∧
  (∀ k0_t56 : Fin (k0_t56_loop v228 v257).trips, ∀ a, (k0_off2588 v1 k0_t51 v228 v257 k0_t56) a + S1x1x1x16x128.size a ≤ S2x2x108x128x128.size a) ∧
  (∀ k0_t56 : Fin (k0_t56_loop v228 v257).trips, ∀ (hinb : ∀ a, (k0_off2588 v1 k0_t51 v228 v257 k0_t56) a + S1x1x1x16x128.size a ≤ S2x2x108x128x128.size a), (Rect.unit (s := S2x2x108x128x128) (k0_off2588 v1 k0_t51 v228 v257 k0_t56) S1x1x1x16x128.size hinb).PackedRows (EltTy.packing .bf16)) ∧
  (∀ k0_t56 : Fin (k0_t56_loop v228 v257).trips, ∀ a, (k0_off2589 v1 k0_t51 v228 v257 k0_t56) a + S1x1x1x16x128.size a ≤ S2x2x108x128x128.size a) ∧
  (∀ k0_t56 : Fin (k0_t56_loop v228 v257).trips, ∀ (hinb : ∀ a, (k0_off2589 v1 k0_t51 v228 v257 k0_t56) a + S1x1x1x16x128.size a ≤ S2x2x108x128x128.size a), (Rect.unit (s := S2x2x108x128x128) (k0_off2589 v1 k0_t51 v228 v257 k0_t56) S1x1x1x16x128.size hinb).PackedRows (EltTy.packing .bf16)) ∧
  (∀ k0_t56 : Fin (k0_t56_loop v228 v257).trips, ∀ a, (k0_off2590 v1 k0_t51 v228 v257 k0_t56) a + S1x1x1x16x128.size a ≤ S2x2x108x128x128.size a) ∧
  (∀ k0_t56 : Fin (k0_t56_loop v228 v257).trips, ∀ (hinb : ∀ a, (k0_off2590 v1 k0_t51 v228 v257 k0_t56) a + S1x1x1x16x128.size a ≤ S2x2x108x128x128.size a), (Rect.unit (s := S2x2x108x128x128) (k0_off2590 v1 k0_t51 v228 v257 k0_t56) S1x1x1x16x128.size hinb).PackedRows (EltTy.packing .bf16)) ∧
  (∀ k0_t56 : Fin (k0_t56_loop v228 v257).trips, ∀ a, (k0_off2591 v1 k0_t51 v228 v257 k0_t56) a + S1x1x1x16x128.size a ≤ S2x2x108x128x128.size a) ∧
  (∀ k0_t56 : Fin (k0_t56_loop v228 v257).trips, ∀ (hinb : ∀ a, (k0_off2591 v1 k0_t51 v228 v257 k0_t56) a + S1x1x1x16x128.size a ≤ S2x2x108x128x128.size a), (Rect.unit (s := S2x2x108x128x128) (k0_off2591 v1 k0_t51 v228 v257 k0_t56) S1x1x1x16x128.size hinb).PackedRows (EltTy.packing .bf16)) ∧
  (∀ k0_t56 : Fin (k0_t56_loop v228 v257).trips, ∀ a, (k0_off2592 v1 k0_t51 v228 v257 k0_t56) a + S1x1x1x16x128.size a ≤ S2x2x108x128x128.size a) ∧
  (∀ k0_t56 : Fin (k0_t56_loop v228 v257).trips, ∀ (hinb : ∀ a, (k0_off2592 v1 k0_t51 v228 v257 k0_t56) a + S1x1x1x16x128.size a ≤ S2x2x108x128x128.size a), (Rect.unit (s := S2x2x108x128x128) (k0_off2592 v1 k0_t51 v228 v257 k0_t56) S1x1x1x16x128.size hinb).PackedRows (EltTy.packing .bf16)) ∧
  (∀ k0_t56 : Fin (k0_t56_loop v228 v257).trips, ∀ a, (k0_off2593 v1 k0_t51 v228 v257 k0_t56) a + S1x1x1x16x128.size a ≤ S2x2x108x128x128.size a) ∧
  (∀ k0_t56 : Fin (k0_t56_loop v228 v257).trips, ∀ (hinb : ∀ a, (k0_off2593 v1 k0_t51 v228 v257 k0_t56) a + S1x1x1x16x128.size a ≤ S2x2x108x128x128.size a), (Rect.unit (s := S2x2x108x128x128) (k0_off2593 v1 k0_t51 v228 v257 k0_t56) S1x1x1x16x128.size hinb).PackedRows (EltTy.packing .bf16)) ∧
  (∀ k0_t56 : Fin (k0_t56_loop v228 v257).trips, ∀ a, (k0_off2594 v1 k0_t51 v228 v257 k0_t56) a + S1x1x1x16x128.size a ≤ S2x2x108x128x128.size a) ∧
  (∀ k0_t56 : Fin (k0_t56_loop v228 v257).trips, ∀ (hinb : ∀ a, (k0_off2594 v1 k0_t51 v228 v257 k0_t56) a + S1x1x1x16x128.size a ≤ S2x2x108x128x128.size a), (Rect.unit (s := S2x2x108x128x128) (k0_off2594 v1 k0_t51 v228 v257 k0_t56) S1x1x1x16x128.size hinb).PackedRows (EltTy.packing .bf16)) ∧
  (∀ k0_t56 : Fin (k0_t56_loop v228 v257).trips, ∀ a, (k0_off2595 v1 k0_t51 v228 v257 k0_t56) a + S1x1x1x16x128.size a ≤ S2x2x108x128x128.size a) ∧
  (∀ k0_t56 : Fin (k0_t56_loop v228 v257).trips, ∀ (hinb : ∀ a, (k0_off2595 v1 k0_t51 v228 v257 k0_t56) a + S1x1x1x16x128.size a ≤ S2x2x108x128x128.size a), (Rect.unit (s := S2x2x108x128x128) (k0_off2595 v1 k0_t51 v228 v257 k0_t56) S1x1x1x16x128.size hinb).PackedRows (EltTy.packing .bf16))
def k0_chk35_23 (v1 : BitVec 32) (k0_t51 : Fin (k0_t51_loop v1).trips) (v228 : BitVec 32) (v257 : BitVec 32) : Prop :=
  (∀ k0_t56 : Fin (k0_t56_loop v228 v257).trips, ∀ a, (k0_off2596 v1 k0_t51 v228 v257 k0_t56) a + S1x1x1x16x128.size a ≤ S2x2x108x128x128.size a) ∧
  (∀ k0_t56 : Fin (k0_t56_loop v228 v257).trips, ∀ (hinb : ∀ a, (k0_off2596 v1 k0_t51 v228 v257 k0_t56) a + S1x1x1x16x128.size a ≤ S2x2x108x128x128.size a), (Rect.unit (s := S2x2x108x128x128) (k0_off2596 v1 k0_t51 v228 v257 k0_t56) S1x1x1x16x128.size hinb).PackedRows (EltTy.packing .bf16)) ∧
  (∀ k0_t56 : Fin (k0_t56_loop v228 v257).trips, ∀ a, (k0_off2597 v1 k0_t51 v228 v257 k0_t56) a + S1x1x1x16x128.size a ≤ S2x2x108x128x128.size a) ∧
  (∀ k0_t56 : Fin (k0_t56_loop v228 v257).trips, ∀ (hinb : ∀ a, (k0_off2597 v1 k0_t51 v228 v257 k0_t56) a + S1x1x1x16x128.size a ≤ S2x2x108x128x128.size a), (Rect.unit (s := S2x2x108x128x128) (k0_off2597 v1 k0_t51 v228 v257 k0_t56) S1x1x1x16x128.size hinb).PackedRows (EltTy.packing .bf16)) ∧
  (∀ k0_t56 : Fin (k0_t56_loop v228 v257).trips, ∀ a, (k0_off2598 v1 k0_t51 v228 v257 k0_t56) a + S1x1x1x16x128.size a ≤ S2x2x108x128x128.size a) ∧
  (∀ k0_t56 : Fin (k0_t56_loop v228 v257).trips, ∀ (hinb : ∀ a, (k0_off2598 v1 k0_t51 v228 v257 k0_t56) a + S1x1x1x16x128.size a ≤ S2x2x108x128x128.size a), (Rect.unit (s := S2x2x108x128x128) (k0_off2598 v1 k0_t51 v228 v257 k0_t56) S1x1x1x16x128.size hinb).PackedRows (EltTy.packing .bf16)) ∧
  (∀ k0_t56 : Fin (k0_t56_loop v228 v257).trips, ∀ a, (k0_off2599 v1 k0_t51 v228 v257 k0_t56) a + S1x1x1x16x128.size a ≤ S2x2x108x128x128.size a) ∧
  (∀ k0_t56 : Fin (k0_t56_loop v228 v257).trips, ∀ (hinb : ∀ a, (k0_off2599 v1 k0_t51 v228 v257 k0_t56) a + S1x1x1x16x128.size a ≤ S2x2x108x128x128.size a), (Rect.unit (s := S2x2x108x128x128) (k0_off2599 v1 k0_t51 v228 v257 k0_t56) S1x1x1x16x128.size hinb).PackedRows (EltTy.packing .bf16)) ∧
  (∀ k0_t56 : Fin (k0_t56_loop v228 v257).trips, ∀ a, (k0_off2600 v1 k0_t51 v228 v257 k0_t56) a + S1x1x1x16x128.size a ≤ S2x2x108x128x128.size a) ∧
  (∀ k0_t56 : Fin (k0_t56_loop v228 v257).trips, ∀ (hinb : ∀ a, (k0_off2600 v1 k0_t51 v228 v257 k0_t56) a + S1x1x1x16x128.size a ≤ S2x2x108x128x128.size a), (Rect.unit (s := S2x2x108x128x128) (k0_off2600 v1 k0_t51 v228 v257 k0_t56) S1x1x1x16x128.size hinb).PackedRows (EltTy.packing .bf16)) ∧
  (∀ k0_t56 : Fin (k0_t56_loop v228 v257).trips, ∀ a, (k0_off2601 v1 k0_t51 v228 v257 k0_t56) a + S1x1x1x16x128.size a ≤ S2x2x108x128x128.size a) ∧
  (∀ k0_t56 : Fin (k0_t56_loop v228 v257).trips, ∀ (hinb : ∀ a, (k0_off2601 v1 k0_t51 v228 v257 k0_t56) a + S1x1x1x16x128.size a ≤ S2x2x108x128x128.size a), (Rect.unit (s := S2x2x108x128x128) (k0_off2601 v1 k0_t51 v228 v257 k0_t56) S1x1x1x16x128.size hinb).PackedRows (EltTy.packing .bf16)) ∧
  (∀ k0_t56 : Fin (k0_t56_loop v228 v257).trips, ∀ a, (k0_off2602 v1 k0_t51 v228 v257 k0_t56) a + S1x1x1x16x128.size a ≤ S2x2x108x128x128.size a) ∧
  (∀ k0_t56 : Fin (k0_t56_loop v228 v257).trips, ∀ (hinb : ∀ a, (k0_off2602 v1 k0_t51 v228 v257 k0_t56) a + S1x1x1x16x128.size a ≤ S2x2x108x128x128.size a), (Rect.unit (s := S2x2x108x128x128) (k0_off2602 v1 k0_t51 v228 v257 k0_t56) S1x1x1x16x128.size hinb).PackedRows (EltTy.packing .bf16)) ∧
  (∀ k0_t56 : Fin (k0_t56_loop v228 v257).trips, ∀ a, (k0_off2603 v1 k0_t51 v228 v257 k0_t56) a + S1x1x1x16x128.size a ≤ S2x2x108x128x128.size a) ∧
  (∀ k0_t56 : Fin (k0_t56_loop v228 v257).trips, ∀ (hinb : ∀ a, (k0_off2603 v1 k0_t51 v228 v257 k0_t56) a + S1x1x1x16x128.size a ≤ S2x2x108x128x128.size a), (Rect.unit (s := S2x2x108x128x128) (k0_off2603 v1 k0_t51 v228 v257 k0_t56) S1x1x1x16x128.size hinb).PackedRows (EltTy.packing .bf16)) ∧
  (∀ k0_t56 : Fin (k0_t56_loop v228 v257).trips, ∀ a, (k0_off2604 v1 k0_t51 v228 v257 k0_t56) a + S1x1x1x16x128.size a ≤ S2x2x108x128x128.size a) ∧
  (∀ k0_t56 : Fin (k0_t56_loop v228 v257).trips, ∀ (hinb : ∀ a, (k0_off2604 v1 k0_t51 v228 v257 k0_t56) a + S1x1x1x16x128.size a ≤ S2x2x108x128x128.size a), (Rect.unit (s := S2x2x108x128x128) (k0_off2604 v1 k0_t51 v228 v257 k0_t56) S1x1x1x16x128.size hinb).PackedRows (EltTy.packing .bf16)) ∧
  (∀ k0_t56 : Fin (k0_t56_loop v228 v257).trips, ∀ a, (k0_off2605 v1 k0_t51 v228 v257 k0_t56) a + S1x1x1x16x128.size a ≤ S2x2x108x128x128.size a) ∧
  (∀ k0_t56 : Fin (k0_t56_loop v228 v257).trips, ∀ (hinb : ∀ a, (k0_off2605 v1 k0_t51 v228 v257 k0_t56) a + S1x1x1x16x128.size a ≤ S2x2x108x128x128.size a), (Rect.unit (s := S2x2x108x128x128) (k0_off2605 v1 k0_t51 v228 v257 k0_t56) S1x1x1x16x128.size hinb).PackedRows (EltTy.packing .bf16)) ∧
  (∀ k0_t56 : Fin (k0_t56_loop v228 v257).trips, ∀ a, (k0_off2606 v1 k0_t51 v228 v257 k0_t56) a + S1x1x1x16x128.size a ≤ S2x2x108x128x128.size a) ∧
  (∀ k0_t56 : Fin (k0_t56_loop v228 v257).trips, ∀ (hinb : ∀ a, (k0_off2606 v1 k0_t51 v228 v257 k0_t56) a + S1x1x1x16x128.size a ≤ S2x2x108x128x128.size a), (Rect.unit (s := S2x2x108x128x128) (k0_off2606 v1 k0_t51 v228 v257 k0_t56) S1x1x1x16x128.size hinb).PackedRows (EltTy.packing .bf16)) ∧
  (∀ k0_t56 : Fin (k0_t56_loop v228 v257).trips, ∀ a, (k0_off2607 v1 k0_t51 v228 v257 k0_t56) a + S1x1x1x16x128.size a ≤ S2x2x108x128x128.size a) ∧
  (∀ k0_t56 : Fin (k0_t56_loop v228 v257).trips, ∀ (hinb : ∀ a, (k0_off2607 v1 k0_t51 v228 v257 k0_t56) a + S1x1x1x16x128.size a ≤ S2x2x108x128x128.size a), (Rect.unit (s := S2x2x108x128x128) (k0_off2607 v1 k0_t51 v228 v257 k0_t56) S1x1x1x16x128.size hinb).PackedRows (EltTy.packing .bf16)) ∧
  (∀ k0_t56 : Fin (k0_t56_loop v228 v257).trips, ∀ a, (k0_off2608 v1 k0_t51 v228 v257 k0_t56) a + S1x1x1x16x128.size a ≤ S2x2x108x128x128.size a) ∧
  (∀ k0_t56 : Fin (k0_t56_loop v228 v257).trips, ∀ (hinb : ∀ a, (k0_off2608 v1 k0_t51 v228 v257 k0_t56) a + S1x1x1x16x128.size a ≤ S2x2x108x128x128.size a), (Rect.unit (s := S2x2x108x128x128) (k0_off2608 v1 k0_t51 v228 v257 k0_t56) S1x1x1x16x128.size hinb).PackedRows (EltTy.packing .bf16)) ∧
  (∀ k0_t56 : Fin (k0_t56_loop v228 v257).trips, ∀ a, (k0_off2609 v1 k0_t51 v228 v257 k0_t56) a + S1x1x1x16x128.size a ≤ S2x2x108x128x128.size a) ∧
  (∀ k0_t56 : Fin (k0_t56_loop v228 v257).trips, ∀ (hinb : ∀ a, (k0_off2609 v1 k0_t51 v228 v257 k0_t56) a + S1x1x1x16x128.size a ≤ S2x2x108x128x128.size a), (Rect.unit (s := S2x2x108x128x128) (k0_off2609 v1 k0_t51 v228 v257 k0_t56) S1x1x1x16x128.size hinb).PackedRows (EltTy.packing .bf16)) ∧
  (∀ k0_t56 : Fin (k0_t56_loop v228 v257).trips, ∀ a, (k0_off2610 v1 k0_t51 v228 v257 k0_t56) a + S1x1x1x16x128.size a ≤ S2x2x108x128x128.size a) ∧
  (∀ k0_t56 : Fin (k0_t56_loop v228 v257).trips, ∀ (hinb : ∀ a, (k0_off2610 v1 k0_t51 v228 v257 k0_t56) a + S1x1x1x16x128.size a ≤ S2x2x108x128x128.size a), (Rect.unit (s := S2x2x108x128x128) (k0_off2610 v1 k0_t51 v228 v257 k0_t56) S1x1x1x16x128.size hinb).PackedRows (EltTy.packing .bf16)) ∧
  (∀ k0_t56 : Fin (k0_t56_loop v228 v257).trips, ∀ a, (k0_off2611 v1 k0_t51 v228 v257 k0_t56) a + S1x1x1x16x128.size a ≤ S2x2x108x128x128.size a) ∧
  (∀ k0_t56 : Fin (k0_t56_loop v228 v257).trips, ∀ (hinb : ∀ a, (k0_off2611 v1 k0_t51 v228 v257 k0_t56) a + S1x1x1x16x128.size a ≤ S2x2x108x128x128.size a), (Rect.unit (s := S2x2x108x128x128) (k0_off2611 v1 k0_t51 v228 v257 k0_t56) S1x1x1x16x128.size hinb).PackedRows (EltTy.packing .bf16))
def k0_chk35_24 (v1 : BitVec 32) (k0_t51 : Fin (k0_t51_loop v1).trips) (v228 : BitVec 32) (v257 : BitVec 32) : Prop :=
  (∀ k0_t56 : Fin (k0_t56_loop v228 v257).trips, ∀ a, (k0_off2612 v1 k0_t51 v228 v257 k0_t56) a + S1x1x1x16x128.size a ≤ S2x2x108x128x128.size a) ∧
  (∀ k0_t56 : Fin (k0_t56_loop v228 v257).trips, ∀ (hinb : ∀ a, (k0_off2612 v1 k0_t51 v228 v257 k0_t56) a + S1x1x1x16x128.size a ≤ S2x2x108x128x128.size a), (Rect.unit (s := S2x2x108x128x128) (k0_off2612 v1 k0_t51 v228 v257 k0_t56) S1x1x1x16x128.size hinb).PackedRows (EltTy.packing .bf16)) ∧
  (∀ k0_t56 : Fin (k0_t56_loop v228 v257).trips, ∀ a, (k0_off2613 v1 k0_t51 v228 v257 k0_t56) a + S1x1x1x16x128.size a ≤ S2x2x108x128x128.size a) ∧
  (∀ k0_t56 : Fin (k0_t56_loop v228 v257).trips, ∀ (hinb : ∀ a, (k0_off2613 v1 k0_t51 v228 v257 k0_t56) a + S1x1x1x16x128.size a ≤ S2x2x108x128x128.size a), (Rect.unit (s := S2x2x108x128x128) (k0_off2613 v1 k0_t51 v228 v257 k0_t56) S1x1x1x16x128.size hinb).PackedRows (EltTy.packing .bf16)) ∧
  (∀ k0_t56 : Fin (k0_t56_loop v228 v257).trips, ∀ a, (k0_off2614 v1 k0_t51 v228 v257 k0_t56) a + S1x1x1x16x128.size a ≤ S2x2x108x128x128.size a) ∧
  (∀ k0_t56 : Fin (k0_t56_loop v228 v257).trips, ∀ (hinb : ∀ a, (k0_off2614 v1 k0_t51 v228 v257 k0_t56) a + S1x1x1x16x128.size a ≤ S2x2x108x128x128.size a), (Rect.unit (s := S2x2x108x128x128) (k0_off2614 v1 k0_t51 v228 v257 k0_t56) S1x1x1x16x128.size hinb).PackedRows (EltTy.packing .bf16)) ∧
  ((k0_t57_loop v228 v257).OK) ∧
  (∀ k0_t57 : Fin (k0_t57_loop v228 v257).trips, 16 ∣ (k0_mult21 v228 v257 k0_t57).toNat) ∧
  (∀ k0_t57 : Fin (k0_t57_loop v228 v257).trips, ∀ a, (k0_off2615 v1 k0_t51 v228 v257 k0_t57) a + S1x1x1x16x128.size a ≤ S2x2x108x128x128.size a) ∧
  (∀ k0_t57 : Fin (k0_t57_loop v228 v257).trips, ∀ (hinb : ∀ a, (k0_off2615 v1 k0_t51 v228 v257 k0_t57) a + S1x1x1x16x128.size a ≤ S2x2x108x128x128.size a), (Rect.unit (s := S2x2x108x128x128) (k0_off2615 v1 k0_t51 v228 v257 k0_t57) S1x1x1x16x128.size hinb).PackedRows (EltTy.packing .bf16)) ∧
  (∀ k0_t57 : Fin (k0_t57_loop v228 v257).trips, ∀ a, (k0_off2616 v1 k0_t51 v228 v257 k0_t57) a + S1x1x1x16x128.size a ≤ S2x2x108x128x128.size a) ∧
  (∀ k0_t57 : Fin (k0_t57_loop v228 v257).trips, ∀ (hinb : ∀ a, (k0_off2616 v1 k0_t51 v228 v257 k0_t57) a + S1x1x1x16x128.size a ≤ S2x2x108x128x128.size a), (Rect.unit (s := S2x2x108x128x128) (k0_off2616 v1 k0_t51 v228 v257 k0_t57) S1x1x1x16x128.size hinb).PackedRows (EltTy.packing .bf16)) ∧
  (∀ k0_t57 : Fin (k0_t57_loop v228 v257).trips, ∀ a, (k0_off2617 v1 k0_t51 v228 v257 k0_t57) a + S1x1x1x16x128.size a ≤ S2x2x108x128x128.size a) ∧
  (∀ k0_t57 : Fin (k0_t57_loop v228 v257).trips, ∀ (hinb : ∀ a, (k0_off2617 v1 k0_t51 v228 v257 k0_t57) a + S1x1x1x16x128.size a ≤ S2x2x108x128x128.size a), (Rect.unit (s := S2x2x108x128x128) (k0_off2617 v1 k0_t51 v228 v257 k0_t57) S1x1x1x16x128.size hinb).PackedRows (EltTy.packing .bf16)) ∧
  (∀ k0_t57 : Fin (k0_t57_loop v228 v257).trips, ∀ a, (k0_off2618 v1 k0_t51 v228 v257 k0_t57) a + S1x1x1x16x128.size a ≤ S2x2x108x128x128.size a) ∧
  (∀ k0_t57 : Fin (k0_t57_loop v228 v257).trips, ∀ (hinb : ∀ a, (k0_off2618 v1 k0_t51 v228 v257 k0_t57) a + S1x1x1x16x128.size a ≤ S2x2x108x128x128.size a), (Rect.unit (s := S2x2x108x128x128) (k0_off2618 v1 k0_t51 v228 v257 k0_t57) S1x1x1x16x128.size hinb).PackedRows (EltTy.packing .bf16)) ∧
  (∀ k0_t57 : Fin (k0_t57_loop v228 v257).trips, ∀ a, (k0_off2619 v1 k0_t51 v228 v257 k0_t57) a + S1x1x1x16x128.size a ≤ S2x2x108x128x128.size a) ∧
  (∀ k0_t57 : Fin (k0_t57_loop v228 v257).trips, ∀ (hinb : ∀ a, (k0_off2619 v1 k0_t51 v228 v257 k0_t57) a + S1x1x1x16x128.size a ≤ S2x2x108x128x128.size a), (Rect.unit (s := S2x2x108x128x128) (k0_off2619 v1 k0_t51 v228 v257 k0_t57) S1x1x1x16x128.size hinb).PackedRows (EltTy.packing .bf16)) ∧
  (∀ k0_t57 : Fin (k0_t57_loop v228 v257).trips, ∀ a, (k0_off2620 v1 k0_t51 v228 v257 k0_t57) a + S1x1x1x16x128.size a ≤ S2x2x108x128x128.size a) ∧
  (∀ k0_t57 : Fin (k0_t57_loop v228 v257).trips, ∀ (hinb : ∀ a, (k0_off2620 v1 k0_t51 v228 v257 k0_t57) a + S1x1x1x16x128.size a ≤ S2x2x108x128x128.size a), (Rect.unit (s := S2x2x108x128x128) (k0_off2620 v1 k0_t51 v228 v257 k0_t57) S1x1x1x16x128.size hinb).PackedRows (EltTy.packing .bf16)) ∧
  (∀ k0_t57 : Fin (k0_t57_loop v228 v257).trips, ∀ a, (k0_off2621 v1 k0_t51 v228 v257 k0_t57) a + S1x1x1x16x128.size a ≤ S2x2x108x128x128.size a) ∧
  (∀ k0_t57 : Fin (k0_t57_loop v228 v257).trips, ∀ (hinb : ∀ a, (k0_off2621 v1 k0_t51 v228 v257 k0_t57) a + S1x1x1x16x128.size a ≤ S2x2x108x128x128.size a), (Rect.unit (s := S2x2x108x128x128) (k0_off2621 v1 k0_t51 v228 v257 k0_t57) S1x1x1x16x128.size hinb).PackedRows (EltTy.packing .bf16)) ∧
  (∀ k0_t57 : Fin (k0_t57_loop v228 v257).trips, ∀ a, (k0_off2622 v1 k0_t51 v228 v257 k0_t57) a + S1x1x1x16x128.size a ≤ S2x2x108x128x128.size a) ∧
  (∀ k0_t57 : Fin (k0_t57_loop v228 v257).trips, ∀ (hinb : ∀ a, (k0_off2622 v1 k0_t51 v228 v257 k0_t57) a + S1x1x1x16x128.size a ≤ S2x2x108x128x128.size a), (Rect.unit (s := S2x2x108x128x128) (k0_off2622 v1 k0_t51 v228 v257 k0_t57) S1x1x1x16x128.size hinb).PackedRows (EltTy.packing .bf16)) ∧
  (∀ k0_t57 : Fin (k0_t57_loop v228 v257).trips, ∀ a, (k0_off2623 v1 k0_t51 v228 v257 k0_t57) a + S1x1x1x16x128.size a ≤ S2x2x108x128x128.size a) ∧
  (∀ k0_t57 : Fin (k0_t57_loop v228 v257).trips, ∀ (hinb : ∀ a, (k0_off2623 v1 k0_t51 v228 v257 k0_t57) a + S1x1x1x16x128.size a ≤ S2x2x108x128x128.size a), (Rect.unit (s := S2x2x108x128x128) (k0_off2623 v1 k0_t51 v228 v257 k0_t57) S1x1x1x16x128.size hinb).PackedRows (EltTy.packing .bf16)) ∧
  (∀ k0_t57 : Fin (k0_t57_loop v228 v257).trips, ∀ a, (k0_off2624 v1 k0_t51 v228 v257 k0_t57) a + S1x1x1x16x128.size a ≤ S2x2x108x128x128.size a) ∧
  (∀ k0_t57 : Fin (k0_t57_loop v228 v257).trips, ∀ (hinb : ∀ a, (k0_off2624 v1 k0_t51 v228 v257 k0_t57) a + S1x1x1x16x128.size a ≤ S2x2x108x128x128.size a), (Rect.unit (s := S2x2x108x128x128) (k0_off2624 v1 k0_t51 v228 v257 k0_t57) S1x1x1x16x128.size hinb).PackedRows (EltTy.packing .bf16)) ∧
  (∀ k0_t57 : Fin (k0_t57_loop v228 v257).trips, ∀ a, (k0_off2625 v1 k0_t51 v228 v257 k0_t57) a + S1x1x1x16x128.size a ≤ S2x2x108x128x128.size a) ∧
  (∀ k0_t57 : Fin (k0_t57_loop v228 v257).trips, ∀ (hinb : ∀ a, (k0_off2625 v1 k0_t51 v228 v257 k0_t57) a + S1x1x1x16x128.size a ≤ S2x2x108x128x128.size a), (Rect.unit (s := S2x2x108x128x128) (k0_off2625 v1 k0_t51 v228 v257 k0_t57) S1x1x1x16x128.size hinb).PackedRows (EltTy.packing .bf16)) ∧
  (∀ k0_t57 : Fin (k0_t57_loop v228 v257).trips, ∀ a, (k0_off2626 v1 k0_t51 v228 v257 k0_t57) a + S1x1x1x16x128.size a ≤ S2x2x108x128x128.size a) ∧
  (∀ k0_t57 : Fin (k0_t57_loop v228 v257).trips, ∀ (hinb : ∀ a, (k0_off2626 v1 k0_t51 v228 v257 k0_t57) a + S1x1x1x16x128.size a ≤ S2x2x108x128x128.size a), (Rect.unit (s := S2x2x108x128x128) (k0_off2626 v1 k0_t51 v228 v257 k0_t57) S1x1x1x16x128.size hinb).PackedRows (EltTy.packing .bf16))
def k0_chk35_25 (v1 : BitVec 32) (k0_t51 : Fin (k0_t51_loop v1).trips) (v228 : BitVec 32) (v257 : BitVec 32) : Prop :=
  (∀ k0_t57 : Fin (k0_t57_loop v228 v257).trips, ∀ a, (k0_off2627 v1 k0_t51 v228 v257 k0_t57) a + S1x1x1x16x128.size a ≤ S2x2x108x128x128.size a) ∧
  (∀ k0_t57 : Fin (k0_t57_loop v228 v257).trips, ∀ (hinb : ∀ a, (k0_off2627 v1 k0_t51 v228 v257 k0_t57) a + S1x1x1x16x128.size a ≤ S2x2x108x128x128.size a), (Rect.unit (s := S2x2x108x128x128) (k0_off2627 v1 k0_t51 v228 v257 k0_t57) S1x1x1x16x128.size hinb).PackedRows (EltTy.packing .bf16)) ∧
  (∀ k0_t57 : Fin (k0_t57_loop v228 v257).trips, ∀ a, (k0_off2628 v1 k0_t51 v228 v257 k0_t57) a + S1x1x1x16x128.size a ≤ S2x2x108x128x128.size a) ∧
  (∀ k0_t57 : Fin (k0_t57_loop v228 v257).trips, ∀ (hinb : ∀ a, (k0_off2628 v1 k0_t51 v228 v257 k0_t57) a + S1x1x1x16x128.size a ≤ S2x2x108x128x128.size a), (Rect.unit (s := S2x2x108x128x128) (k0_off2628 v1 k0_t51 v228 v257 k0_t57) S1x1x1x16x128.size hinb).PackedRows (EltTy.packing .bf16)) ∧
  (∀ k0_t57 : Fin (k0_t57_loop v228 v257).trips, ∀ a, (k0_off2629 v1 k0_t51 v228 v257 k0_t57) a + S1x1x1x16x128.size a ≤ S2x2x108x128x128.size a) ∧
  (∀ k0_t57 : Fin (k0_t57_loop v228 v257).trips, ∀ (hinb : ∀ a, (k0_off2629 v1 k0_t51 v228 v257 k0_t57) a + S1x1x1x16x128.size a ≤ S2x2x108x128x128.size a), (Rect.unit (s := S2x2x108x128x128) (k0_off2629 v1 k0_t51 v228 v257 k0_t57) S1x1x1x16x128.size hinb).PackedRows (EltTy.packing .bf16)) ∧
  (∀ k0_t57 : Fin (k0_t57_loop v228 v257).trips, ∀ a, (k0_off2630 v1 k0_t51 v228 v257 k0_t57) a + S1x1x1x16x128.size a ≤ S2x2x108x128x128.size a) ∧
  (∀ k0_t57 : Fin (k0_t57_loop v228 v257).trips, ∀ (hinb : ∀ a, (k0_off2630 v1 k0_t51 v228 v257 k0_t57) a + S1x1x1x16x128.size a ≤ S2x2x108x128x128.size a), (Rect.unit (s := S2x2x108x128x128) (k0_off2630 v1 k0_t51 v228 v257 k0_t57) S1x1x1x16x128.size hinb).PackedRows (EltTy.packing .bf16)) ∧
  (∀ k0_t57 : Fin (k0_t57_loop v228 v257).trips, ∀ a, (k0_off2631 v1 k0_t51 v228 v257 k0_t57) a + S1x1x1x16x128.size a ≤ S2x2x108x128x128.size a) ∧
  (∀ k0_t57 : Fin (k0_t57_loop v228 v257).trips, ∀ (hinb : ∀ a, (k0_off2631 v1 k0_t51 v228 v257 k0_t57) a + S1x1x1x16x128.size a ≤ S2x2x108x128x128.size a), (Rect.unit (s := S2x2x108x128x128) (k0_off2631 v1 k0_t51 v228 v257 k0_t57) S1x1x1x16x128.size hinb).PackedRows (EltTy.packing .bf16)) ∧
  (∀ k0_t57 : Fin (k0_t57_loop v228 v257).trips, ∀ a, (k0_off2632 v1 k0_t51 v228 v257 k0_t57) a + S1x1x1x16x128.size a ≤ S2x2x108x128x128.size a) ∧
  (∀ k0_t57 : Fin (k0_t57_loop v228 v257).trips, ∀ (hinb : ∀ a, (k0_off2632 v1 k0_t51 v228 v257 k0_t57) a + S1x1x1x16x128.size a ≤ S2x2x108x128x128.size a), (Rect.unit (s := S2x2x108x128x128) (k0_off2632 v1 k0_t51 v228 v257 k0_t57) S1x1x1x16x128.size hinb).PackedRows (EltTy.packing .bf16)) ∧
  (∀ k0_t57 : Fin (k0_t57_loop v228 v257).trips, ∀ a, (k0_off2633 v1 k0_t51 v228 v257 k0_t57) a + S1x1x1x16x128.size a ≤ S2x2x108x128x128.size a) ∧
  (∀ k0_t57 : Fin (k0_t57_loop v228 v257).trips, ∀ (hinb : ∀ a, (k0_off2633 v1 k0_t51 v228 v257 k0_t57) a + S1x1x1x16x128.size a ≤ S2x2x108x128x128.size a), (Rect.unit (s := S2x2x108x128x128) (k0_off2633 v1 k0_t51 v228 v257 k0_t57) S1x1x1x16x128.size hinb).PackedRows (EltTy.packing .bf16)) ∧
  (∀ k0_t57 : Fin (k0_t57_loop v228 v257).trips, ∀ a, (k0_off2634 v1 k0_t51 v228 v257 k0_t57) a + S1x1x1x16x128.size a ≤ S2x2x108x128x128.size a) ∧
  (∀ k0_t57 : Fin (k0_t57_loop v228 v257).trips, ∀ (hinb : ∀ a, (k0_off2634 v1 k0_t51 v228 v257 k0_t57) a + S1x1x1x16x128.size a ≤ S2x2x108x128x128.size a), (Rect.unit (s := S2x2x108x128x128) (k0_off2634 v1 k0_t51 v228 v257 k0_t57) S1x1x1x16x128.size hinb).PackedRows (EltTy.packing .bf16)) ∧
  (∀ k0_t57 : Fin (k0_t57_loop v228 v257).trips, ∀ a, (k0_off2635 v1 k0_t51 v228 v257 k0_t57) a + S1x1x1x16x128.size a ≤ S2x2x108x128x128.size a) ∧
  (∀ k0_t57 : Fin (k0_t57_loop v228 v257).trips, ∀ (hinb : ∀ a, (k0_off2635 v1 k0_t51 v228 v257 k0_t57) a + S1x1x1x16x128.size a ≤ S2x2x108x128x128.size a), (Rect.unit (s := S2x2x108x128x128) (k0_off2635 v1 k0_t51 v228 v257 k0_t57) S1x1x1x16x128.size hinb).PackedRows (EltTy.packing .bf16)) ∧
  (∀ k0_t57 : Fin (k0_t57_loop v228 v257).trips, ∀ a, (k0_off2636 v1 k0_t51 v228 v257 k0_t57) a + S1x1x1x16x128.size a ≤ S2x2x108x128x128.size a) ∧
  (∀ k0_t57 : Fin (k0_t57_loop v228 v257).trips, ∀ (hinb : ∀ a, (k0_off2636 v1 k0_t51 v228 v257 k0_t57) a + S1x1x1x16x128.size a ≤ S2x2x108x128x128.size a), (Rect.unit (s := S2x2x108x128x128) (k0_off2636 v1 k0_t51 v228 v257 k0_t57) S1x1x1x16x128.size hinb).PackedRows (EltTy.packing .bf16)) ∧
  (∀ k0_t57 : Fin (k0_t57_loop v228 v257).trips, ∀ a, (k0_off2637 v1 k0_t51 v228 v257 k0_t57) a + S1x1x1x16x128.size a ≤ S2x2x108x128x128.size a) ∧
  (∀ k0_t57 : Fin (k0_t57_loop v228 v257).trips, ∀ (hinb : ∀ a, (k0_off2637 v1 k0_t51 v228 v257 k0_t57) a + S1x1x1x16x128.size a ≤ S2x2x108x128x128.size a), (Rect.unit (s := S2x2x108x128x128) (k0_off2637 v1 k0_t51 v228 v257 k0_t57) S1x1x1x16x128.size hinb).PackedRows (EltTy.packing .bf16)) ∧
  (∀ k0_t57 : Fin (k0_t57_loop v228 v257).trips, ∀ a, (k0_off2638 v1 k0_t51 v228 v257 k0_t57) a + S1x1x1x16x128.size a ≤ S2x2x108x128x128.size a) ∧
  (∀ k0_t57 : Fin (k0_t57_loop v228 v257).trips, ∀ (hinb : ∀ a, (k0_off2638 v1 k0_t51 v228 v257 k0_t57) a + S1x1x1x16x128.size a ≤ S2x2x108x128x128.size a), (Rect.unit (s := S2x2x108x128x128) (k0_off2638 v1 k0_t51 v228 v257 k0_t57) S1x1x1x16x128.size hinb).PackedRows (EltTy.packing .bf16)) ∧
  (∀ k0_t57 : Fin (k0_t57_loop v228 v257).trips, ∀ a, (k0_off2639 v1 k0_t51 v228 v257 k0_t57) a + S1x1x1x16x128.size a ≤ S2x2x108x128x128.size a) ∧
  (∀ k0_t57 : Fin (k0_t57_loop v228 v257).trips, ∀ (hinb : ∀ a, (k0_off2639 v1 k0_t51 v228 v257 k0_t57) a + S1x1x1x16x128.size a ≤ S2x2x108x128x128.size a), (Rect.unit (s := S2x2x108x128x128) (k0_off2639 v1 k0_t51 v228 v257 k0_t57) S1x1x1x16x128.size hinb).PackedRows (EltTy.packing .bf16)) ∧
  (∀ k0_t57 : Fin (k0_t57_loop v228 v257).trips, ∀ a, (k0_off2640 v1 k0_t51 v228 v257 k0_t57) a + S1x1x1x16x128.size a ≤ S2x2x108x128x128.size a) ∧
  (∀ k0_t57 : Fin (k0_t57_loop v228 v257).trips, ∀ (hinb : ∀ a, (k0_off2640 v1 k0_t51 v228 v257 k0_t57) a + S1x1x1x16x128.size a ≤ S2x2x108x128x128.size a), (Rect.unit (s := S2x2x108x128x128) (k0_off2640 v1 k0_t51 v228 v257 k0_t57) S1x1x1x16x128.size hinb).PackedRows (EltTy.packing .bf16)) ∧
  (∀ k0_t57 : Fin (k0_t57_loop v228 v257).trips, ∀ a, (k0_off2641 v1 k0_t51 v228 v257 k0_t57) a + S1x1x1x16x128.size a ≤ S2x2x108x128x128.size a) ∧
  (∀ k0_t57 : Fin (k0_t57_loop v228 v257).trips, ∀ (hinb : ∀ a, (k0_off2641 v1 k0_t51 v228 v257 k0_t57) a + S1x1x1x16x128.size a ≤ S2x2x108x128x128.size a), (Rect.unit (s := S2x2x108x128x128) (k0_off2641 v1 k0_t51 v228 v257 k0_t57) S1x1x1x16x128.size hinb).PackedRows (EltTy.packing .bf16)) ∧
  (∀ k0_t57 : Fin (k0_t57_loop v228 v257).trips, ∀ a, (k0_off2642 v1 k0_t51 v228 v257 k0_t57) a + S1x1x1x16x128.size a ≤ S2x2x108x128x128.size a) ∧
  (∀ k0_t57 : Fin (k0_t57_loop v228 v257).trips, ∀ (hinb : ∀ a, (k0_off2642 v1 k0_t51 v228 v257 k0_t57) a + S1x1x1x16x128.size a ≤ S2x2x108x128x128.size a), (Rect.unit (s := S2x2x108x128x128) (k0_off2642 v1 k0_t51 v228 v257 k0_t57) S1x1x1x16x128.size hinb).PackedRows (EltTy.packing .bf16))
def k0_chk35_26 (v1 : BitVec 32) (k0_t51 : Fin (k0_t51_loop v1).trips) (v228 : BitVec 32) (v257 : BitVec 32) : Prop :=
  (∀ k0_t57 : Fin (k0_t57_loop v228 v257).trips, ∀ a, (k0_off2643 v1 k0_t51 v228 v257 k0_t57) a + S1x1x1x16x128.size a ≤ S2x2x108x128x128.size a) ∧
  (∀ k0_t57 : Fin (k0_t57_loop v228 v257).trips, ∀ (hinb : ∀ a, (k0_off2643 v1 k0_t51 v228 v257 k0_t57) a + S1x1x1x16x128.size a ≤ S2x2x108x128x128.size a), (Rect.unit (s := S2x2x108x128x128) (k0_off2643 v1 k0_t51 v228 v257 k0_t57) S1x1x1x16x128.size hinb).PackedRows (EltTy.packing .bf16)) ∧
  (∀ k0_t57 : Fin (k0_t57_loop v228 v257).trips, ∀ a, (k0_off2644 v1 k0_t51 v228 v257 k0_t57) a + S1x1x1x16x128.size a ≤ S2x2x108x128x128.size a) ∧
  (∀ k0_t57 : Fin (k0_t57_loop v228 v257).trips, ∀ (hinb : ∀ a, (k0_off2644 v1 k0_t51 v228 v257 k0_t57) a + S1x1x1x16x128.size a ≤ S2x2x108x128x128.size a), (Rect.unit (s := S2x2x108x128x128) (k0_off2644 v1 k0_t51 v228 v257 k0_t57) S1x1x1x16x128.size hinb).PackedRows (EltTy.packing .bf16)) ∧
  (∀ k0_t57 : Fin (k0_t57_loop v228 v257).trips, ∀ a, (k0_off2645 v1 k0_t51 v228 v257 k0_t57) a + S1x1x1x16x128.size a ≤ S2x2x108x128x128.size a) ∧
  (∀ k0_t57 : Fin (k0_t57_loop v228 v257).trips, ∀ (hinb : ∀ a, (k0_off2645 v1 k0_t51 v228 v257 k0_t57) a + S1x1x1x16x128.size a ≤ S2x2x108x128x128.size a), (Rect.unit (s := S2x2x108x128x128) (k0_off2645 v1 k0_t51 v228 v257 k0_t57) S1x1x1x16x128.size hinb).PackedRows (EltTy.packing .bf16)) ∧
  (∀ k0_t57 : Fin (k0_t57_loop v228 v257).trips, ∀ a, (k0_off2646 v1 k0_t51 v228 v257 k0_t57) a + S1x1x1x16x128.size a ≤ S2x2x108x128x128.size a) ∧
  (∀ k0_t57 : Fin (k0_t57_loop v228 v257).trips, ∀ (hinb : ∀ a, (k0_off2646 v1 k0_t51 v228 v257 k0_t57) a + S1x1x1x16x128.size a ≤ S2x2x108x128x128.size a), (Rect.unit (s := S2x2x108x128x128) (k0_off2646 v1 k0_t51 v228 v257 k0_t57) S1x1x1x16x128.size hinb).PackedRows (EltTy.packing .bf16)) ∧
  (∀ k0_t57 : Fin (k0_t57_loop v228 v257).trips, ∀ a, (k0_off2647 v1 k0_t51 v228 v257 k0_t57) a + S1x1x1x16x128.size a ≤ S2x2x108x128x128.size a) ∧
  (∀ k0_t57 : Fin (k0_t57_loop v228 v257).trips, ∀ (hinb : ∀ a, (k0_off2647 v1 k0_t51 v228 v257 k0_t57) a + S1x1x1x16x128.size a ≤ S2x2x108x128x128.size a), (Rect.unit (s := S2x2x108x128x128) (k0_off2647 v1 k0_t51 v228 v257 k0_t57) S1x1x1x16x128.size hinb).PackedRows (EltTy.packing .bf16)) ∧
  (∀ k0_t57 : Fin (k0_t57_loop v228 v257).trips, ∀ a, (k0_off2648 v1 k0_t51 v228 v257 k0_t57) a + S1x1x1x16x128.size a ≤ S2x2x108x128x128.size a) ∧
  (∀ k0_t57 : Fin (k0_t57_loop v228 v257).trips, ∀ (hinb : ∀ a, (k0_off2648 v1 k0_t51 v228 v257 k0_t57) a + S1x1x1x16x128.size a ≤ S2x2x108x128x128.size a), (Rect.unit (s := S2x2x108x128x128) (k0_off2648 v1 k0_t51 v228 v257 k0_t57) S1x1x1x16x128.size hinb).PackedRows (EltTy.packing .bf16)) ∧
  (∀ k0_t57 : Fin (k0_t57_loop v228 v257).trips, ∀ a, (k0_off2649 v1 k0_t51 v228 v257 k0_t57) a + S1x1x1x16x128.size a ≤ S2x2x108x128x128.size a) ∧
  (∀ k0_t57 : Fin (k0_t57_loop v228 v257).trips, ∀ (hinb : ∀ a, (k0_off2649 v1 k0_t51 v228 v257 k0_t57) a + S1x1x1x16x128.size a ≤ S2x2x108x128x128.size a), (Rect.unit (s := S2x2x108x128x128) (k0_off2649 v1 k0_t51 v228 v257 k0_t57) S1x1x1x16x128.size hinb).PackedRows (EltTy.packing .bf16)) ∧
  (∀ k0_t57 : Fin (k0_t57_loop v228 v257).trips, ∀ a, (k0_off2650 v1 k0_t51 v228 v257 k0_t57) a + S1x1x1x16x128.size a ≤ S2x2x108x128x128.size a) ∧
  (∀ k0_t57 : Fin (k0_t57_loop v228 v257).trips, ∀ (hinb : ∀ a, (k0_off2650 v1 k0_t51 v228 v257 k0_t57) a + S1x1x1x16x128.size a ≤ S2x2x108x128x128.size a), (Rect.unit (s := S2x2x108x128x128) (k0_off2650 v1 k0_t51 v228 v257 k0_t57) S1x1x1x16x128.size hinb).PackedRows (EltTy.packing .bf16)) ∧
  (∀ k0_t57 : Fin (k0_t57_loop v228 v257).trips, ∀ a, (k0_off2651 v1 k0_t51 v228 v257 k0_t57) a + S1x1x1x16x128.size a ≤ S2x2x108x128x128.size a) ∧
  (∀ k0_t57 : Fin (k0_t57_loop v228 v257).trips, ∀ (hinb : ∀ a, (k0_off2651 v1 k0_t51 v228 v257 k0_t57) a + S1x1x1x16x128.size a ≤ S2x2x108x128x128.size a), (Rect.unit (s := S2x2x108x128x128) (k0_off2651 v1 k0_t51 v228 v257 k0_t57) S1x1x1x16x128.size hinb).PackedRows (EltTy.packing .bf16)) ∧
  (∀ k0_t57 : Fin (k0_t57_loop v228 v257).trips, ∀ a, (k0_off2652 v1 k0_t51 v228 v257 k0_t57) a + S1x1x1x16x128.size a ≤ S2x2x108x128x128.size a) ∧
  (∀ k0_t57 : Fin (k0_t57_loop v228 v257).trips, ∀ (hinb : ∀ a, (k0_off2652 v1 k0_t51 v228 v257 k0_t57) a + S1x1x1x16x128.size a ≤ S2x2x108x128x128.size a), (Rect.unit (s := S2x2x108x128x128) (k0_off2652 v1 k0_t51 v228 v257 k0_t57) S1x1x1x16x128.size hinb).PackedRows (EltTy.packing .bf16)) ∧
  (∀ k0_t57 : Fin (k0_t57_loop v228 v257).trips, ∀ a, (k0_off2653 v1 k0_t51 v228 v257 k0_t57) a + S1x1x1x16x128.size a ≤ S2x2x108x128x128.size a) ∧
  (∀ k0_t57 : Fin (k0_t57_loop v228 v257).trips, ∀ (hinb : ∀ a, (k0_off2653 v1 k0_t51 v228 v257 k0_t57) a + S1x1x1x16x128.size a ≤ S2x2x108x128x128.size a), (Rect.unit (s := S2x2x108x128x128) (k0_off2653 v1 k0_t51 v228 v257 k0_t57) S1x1x1x16x128.size hinb).PackedRows (EltTy.packing .bf16)) ∧
  (∀ k0_t57 : Fin (k0_t57_loop v228 v257).trips, ∀ a, (k0_off2654 v1 k0_t51 v228 v257 k0_t57) a + S1x1x1x16x128.size a ≤ S2x2x108x128x128.size a) ∧
  (∀ k0_t57 : Fin (k0_t57_loop v228 v257).trips, ∀ (hinb : ∀ a, (k0_off2654 v1 k0_t51 v228 v257 k0_t57) a + S1x1x1x16x128.size a ≤ S2x2x108x128x128.size a), (Rect.unit (s := S2x2x108x128x128) (k0_off2654 v1 k0_t51 v228 v257 k0_t57) S1x1x1x16x128.size hinb).PackedRows (EltTy.packing .bf16)) ∧
  (∀ k0_t57 : Fin (k0_t57_loop v228 v257).trips, ∀ a, (k0_off2655 v1 k0_t51 v228 v257 k0_t57) a + S1x1x1x16x128.size a ≤ S2x2x108x128x128.size a) ∧
  (∀ k0_t57 : Fin (k0_t57_loop v228 v257).trips, ∀ (hinb : ∀ a, (k0_off2655 v1 k0_t51 v228 v257 k0_t57) a + S1x1x1x16x128.size a ≤ S2x2x108x128x128.size a), (Rect.unit (s := S2x2x108x128x128) (k0_off2655 v1 k0_t51 v228 v257 k0_t57) S1x1x1x16x128.size hinb).PackedRows (EltTy.packing .bf16)) ∧
  (∀ k0_t57 : Fin (k0_t57_loop v228 v257).trips, ∀ a, (k0_off2656 v1 k0_t51 v228 v257 k0_t57) a + S1x1x1x16x128.size a ≤ S2x2x108x128x128.size a) ∧
  (∀ k0_t57 : Fin (k0_t57_loop v228 v257).trips, ∀ (hinb : ∀ a, (k0_off2656 v1 k0_t51 v228 v257 k0_t57) a + S1x1x1x16x128.size a ≤ S2x2x108x128x128.size a), (Rect.unit (s := S2x2x108x128x128) (k0_off2656 v1 k0_t51 v228 v257 k0_t57) S1x1x1x16x128.size hinb).PackedRows (EltTy.packing .bf16)) ∧
  (∀ k0_t57 : Fin (k0_t57_loop v228 v257).trips, ∀ a, (k0_off2657 v1 k0_t51 v228 v257 k0_t57) a + S1x1x1x16x128.size a ≤ S2x2x108x128x128.size a) ∧
  (∀ k0_t57 : Fin (k0_t57_loop v228 v257).trips, ∀ (hinb : ∀ a, (k0_off2657 v1 k0_t51 v228 v257 k0_t57) a + S1x1x1x16x128.size a ≤ S2x2x108x128x128.size a), (Rect.unit (s := S2x2x108x128x128) (k0_off2657 v1 k0_t51 v228 v257 k0_t57) S1x1x1x16x128.size hinb).PackedRows (EltTy.packing .bf16)) ∧
  (∀ k0_t57 : Fin (k0_t57_loop v228 v257).trips, ∀ a, (k0_off2658 v1 k0_t51 v228 v257 k0_t57) a + S1x1x1x16x128.size a ≤ S2x2x108x128x128.size a) ∧
  (∀ k0_t57 : Fin (k0_t57_loop v228 v257).trips, ∀ (hinb : ∀ a, (k0_off2658 v1 k0_t51 v228 v257 k0_t57) a + S1x1x1x16x128.size a ≤ S2x2x108x128x128.size a), (Rect.unit (s := S2x2x108x128x128) (k0_off2658 v1 k0_t51 v228 v257 k0_t57) S1x1x1x16x128.size hinb).PackedRows (EltTy.packing .bf16))
def k0_chk35_27 (v1 : BitVec 32) (k0_t51 : Fin (k0_t51_loop v1).trips) (v228 : BitVec 32) (v257 : BitVec 32) : Prop :=
  (∀ k0_t57 : Fin (k0_t57_loop v228 v257).trips, ∀ a, (k0_off2659 v1 k0_t51 v228 v257 k0_t57) a + S1x1x1x16x128.size a ≤ S2x2x108x128x128.size a) ∧
  (∀ k0_t57 : Fin (k0_t57_loop v228 v257).trips, ∀ (hinb : ∀ a, (k0_off2659 v1 k0_t51 v228 v257 k0_t57) a + S1x1x1x16x128.size a ≤ S2x2x108x128x128.size a), (Rect.unit (s := S2x2x108x128x128) (k0_off2659 v1 k0_t51 v228 v257 k0_t57) S1x1x1x16x128.size hinb).PackedRows (EltTy.packing .bf16)) ∧
  (∀ k0_t57 : Fin (k0_t57_loop v228 v257).trips, ∀ a, (k0_off2660 v1 k0_t51 v228 v257 k0_t57) a + S1x1x1x16x128.size a ≤ S2x2x108x128x128.size a) ∧
  (∀ k0_t57 : Fin (k0_t57_loop v228 v257).trips, ∀ (hinb : ∀ a, (k0_off2660 v1 k0_t51 v228 v257 k0_t57) a + S1x1x1x16x128.size a ≤ S2x2x108x128x128.size a), (Rect.unit (s := S2x2x108x128x128) (k0_off2660 v1 k0_t51 v228 v257 k0_t57) S1x1x1x16x128.size hinb).PackedRows (EltTy.packing .bf16)) ∧
  (∀ k0_t57 : Fin (k0_t57_loop v228 v257).trips, ∀ a, (k0_off2661 v1 k0_t51 v228 v257 k0_t57) a + S1x1x1x16x128.size a ≤ S2x2x108x128x128.size a) ∧
  (∀ k0_t57 : Fin (k0_t57_loop v228 v257).trips, ∀ (hinb : ∀ a, (k0_off2661 v1 k0_t51 v228 v257 k0_t57) a + S1x1x1x16x128.size a ≤ S2x2x108x128x128.size a), (Rect.unit (s := S2x2x108x128x128) (k0_off2661 v1 k0_t51 v228 v257 k0_t57) S1x1x1x16x128.size hinb).PackedRows (EltTy.packing .bf16)) ∧
  (∀ k0_t57 : Fin (k0_t57_loop v228 v257).trips, ∀ a, (k0_off2662 v1 k0_t51 v228 v257 k0_t57) a + S1x1x1x16x128.size a ≤ S2x2x108x128x128.size a) ∧
  (∀ k0_t57 : Fin (k0_t57_loop v228 v257).trips, ∀ (hinb : ∀ a, (k0_off2662 v1 k0_t51 v228 v257 k0_t57) a + S1x1x1x16x128.size a ≤ S2x2x108x128x128.size a), (Rect.unit (s := S2x2x108x128x128) (k0_off2662 v1 k0_t51 v228 v257 k0_t57) S1x1x1x16x128.size hinb).PackedRows (EltTy.packing .bf16)) ∧
  (∀ k0_t57 : Fin (k0_t57_loop v228 v257).trips, ∀ a, (k0_off2663 v1 k0_t51 v228 v257 k0_t57) a + S1x1x1x16x128.size a ≤ S2x2x108x128x128.size a) ∧
  (∀ k0_t57 : Fin (k0_t57_loop v228 v257).trips, ∀ (hinb : ∀ a, (k0_off2663 v1 k0_t51 v228 v257 k0_t57) a + S1x1x1x16x128.size a ≤ S2x2x108x128x128.size a), (Rect.unit (s := S2x2x108x128x128) (k0_off2663 v1 k0_t51 v228 v257 k0_t57) S1x1x1x16x128.size hinb).PackedRows (EltTy.packing .bf16)) ∧
  (∀ k0_t57 : Fin (k0_t57_loop v228 v257).trips, ∀ a, (k0_off2664 v1 k0_t51 v228 v257 k0_t57) a + S1x1x1x16x128.size a ≤ S2x2x108x128x128.size a) ∧
  (∀ k0_t57 : Fin (k0_t57_loop v228 v257).trips, ∀ (hinb : ∀ a, (k0_off2664 v1 k0_t51 v228 v257 k0_t57) a + S1x1x1x16x128.size a ≤ S2x2x108x128x128.size a), (Rect.unit (s := S2x2x108x128x128) (k0_off2664 v1 k0_t51 v228 v257 k0_t57) S1x1x1x16x128.size hinb).PackedRows (EltTy.packing .bf16)) ∧
  (∀ k0_t57 : Fin (k0_t57_loop v228 v257).trips, ∀ a, (k0_off2665 v1 k0_t51 v228 v257 k0_t57) a + S1x1x1x16x128.size a ≤ S2x2x108x128x128.size a) ∧
  (∀ k0_t57 : Fin (k0_t57_loop v228 v257).trips, ∀ (hinb : ∀ a, (k0_off2665 v1 k0_t51 v228 v257 k0_t57) a + S1x1x1x16x128.size a ≤ S2x2x108x128x128.size a), (Rect.unit (s := S2x2x108x128x128) (k0_off2665 v1 k0_t51 v228 v257 k0_t57) S1x1x1x16x128.size hinb).PackedRows (EltTy.packing .bf16)) ∧
  (∀ k0_t57 : Fin (k0_t57_loop v228 v257).trips, ∀ a, (k0_off2666 v1 k0_t51 v228 v257 k0_t57) a + S1x1x1x16x128.size a ≤ S2x2x108x128x128.size a) ∧
  (∀ k0_t57 : Fin (k0_t57_loop v228 v257).trips, ∀ (hinb : ∀ a, (k0_off2666 v1 k0_t51 v228 v257 k0_t57) a + S1x1x1x16x128.size a ≤ S2x2x108x128x128.size a), (Rect.unit (s := S2x2x108x128x128) (k0_off2666 v1 k0_t51 v228 v257 k0_t57) S1x1x1x16x128.size hinb).PackedRows (EltTy.packing .bf16)) ∧
  (∀ k0_t57 : Fin (k0_t57_loop v228 v257).trips, ∀ a, (k0_off2667 v1 k0_t51 v228 v257 k0_t57) a + S1x1x1x16x128.size a ≤ S2x2x108x128x128.size a) ∧
  (∀ k0_t57 : Fin (k0_t57_loop v228 v257).trips, ∀ (hinb : ∀ a, (k0_off2667 v1 k0_t51 v228 v257 k0_t57) a + S1x1x1x16x128.size a ≤ S2x2x108x128x128.size a), (Rect.unit (s := S2x2x108x128x128) (k0_off2667 v1 k0_t51 v228 v257 k0_t57) S1x1x1x16x128.size hinb).PackedRows (EltTy.packing .bf16)) ∧
  (∀ k0_t57 : Fin (k0_t57_loop v228 v257).trips, ∀ a, (k0_off2668 v1 k0_t51 v228 v257 k0_t57) a + S1x1x1x16x128.size a ≤ S2x2x108x128x128.size a) ∧
  (∀ k0_t57 : Fin (k0_t57_loop v228 v257).trips, ∀ (hinb : ∀ a, (k0_off2668 v1 k0_t51 v228 v257 k0_t57) a + S1x1x1x16x128.size a ≤ S2x2x108x128x128.size a), (Rect.unit (s := S2x2x108x128x128) (k0_off2668 v1 k0_t51 v228 v257 k0_t57) S1x1x1x16x128.size hinb).PackedRows (EltTy.packing .bf16)) ∧
  (∀ k0_t57 : Fin (k0_t57_loop v228 v257).trips, ∀ a, (k0_off2669 v1 k0_t51 v228 v257 k0_t57) a + S1x1x1x16x128.size a ≤ S2x2x108x128x128.size a) ∧
  (∀ k0_t57 : Fin (k0_t57_loop v228 v257).trips, ∀ (hinb : ∀ a, (k0_off2669 v1 k0_t51 v228 v257 k0_t57) a + S1x1x1x16x128.size a ≤ S2x2x108x128x128.size a), (Rect.unit (s := S2x2x108x128x128) (k0_off2669 v1 k0_t51 v228 v257 k0_t57) S1x1x1x16x128.size hinb).PackedRows (EltTy.packing .bf16)) ∧
  (∀ k0_t57 : Fin (k0_t57_loop v228 v257).trips, ∀ a, (k0_off2670 v1 k0_t51 v228 v257 k0_t57) a + S1x1x1x16x128.size a ≤ S2x2x108x128x128.size a) ∧
  (∀ k0_t57 : Fin (k0_t57_loop v228 v257).trips, ∀ (hinb : ∀ a, (k0_off2670 v1 k0_t51 v228 v257 k0_t57) a + S1x1x1x16x128.size a ≤ S2x2x108x128x128.size a), (Rect.unit (s := S2x2x108x128x128) (k0_off2670 v1 k0_t51 v228 v257 k0_t57) S1x1x1x16x128.size hinb).PackedRows (EltTy.packing .bf16)) ∧
  (∀ k0_t57 : Fin (k0_t57_loop v228 v257).trips, ∀ a, (k0_off2671 v1 k0_t51 v228 v257 k0_t57) a + S1x1x1x16x128.size a ≤ S2x2x108x128x128.size a) ∧
  (∀ k0_t57 : Fin (k0_t57_loop v228 v257).trips, ∀ (hinb : ∀ a, (k0_off2671 v1 k0_t51 v228 v257 k0_t57) a + S1x1x1x16x128.size a ≤ S2x2x108x128x128.size a), (Rect.unit (s := S2x2x108x128x128) (k0_off2671 v1 k0_t51 v228 v257 k0_t57) S1x1x1x16x128.size hinb).PackedRows (EltTy.packing .bf16)) ∧
  (∀ k0_t57 : Fin (k0_t57_loop v228 v257).trips, ∀ a, (k0_off2672 v1 k0_t51 v228 v257 k0_t57) a + S1x1x1x16x128.size a ≤ S2x2x108x128x128.size a) ∧
  (∀ k0_t57 : Fin (k0_t57_loop v228 v257).trips, ∀ (hinb : ∀ a, (k0_off2672 v1 k0_t51 v228 v257 k0_t57) a + S1x1x1x16x128.size a ≤ S2x2x108x128x128.size a), (Rect.unit (s := S2x2x108x128x128) (k0_off2672 v1 k0_t51 v228 v257 k0_t57) S1x1x1x16x128.size hinb).PackedRows (EltTy.packing .bf16)) ∧
  (∀ k0_t57 : Fin (k0_t57_loop v228 v257).trips, ∀ a, (k0_off2673 v1 k0_t51 v228 v257 k0_t57) a + S1x1x1x16x128.size a ≤ S2x2x108x128x128.size a) ∧
  (∀ k0_t57 : Fin (k0_t57_loop v228 v257).trips, ∀ (hinb : ∀ a, (k0_off2673 v1 k0_t51 v228 v257 k0_t57) a + S1x1x1x16x128.size a ≤ S2x2x108x128x128.size a), (Rect.unit (s := S2x2x108x128x128) (k0_off2673 v1 k0_t51 v228 v257 k0_t57) S1x1x1x16x128.size hinb).PackedRows (EltTy.packing .bf16)) ∧
  (∀ k0_t57 : Fin (k0_t57_loop v228 v257).trips, ∀ a, (k0_off2674 v1 k0_t51 v228 v257 k0_t57) a + S1x1x1x16x128.size a ≤ S2x2x108x128x128.size a) ∧
  (∀ k0_t57 : Fin (k0_t57_loop v228 v257).trips, ∀ (hinb : ∀ a, (k0_off2674 v1 k0_t51 v228 v257 k0_t57) a + S1x1x1x16x128.size a ≤ S2x2x108x128x128.size a), (Rect.unit (s := S2x2x108x128x128) (k0_off2674 v1 k0_t51 v228 v257 k0_t57) S1x1x1x16x128.size hinb).PackedRows (EltTy.packing .bf16))
def k0_chk35_28 (v1 : BitVec 32) (k0_t51 : Fin (k0_t51_loop v1).trips) (v228 : BitVec 32) (v257 : BitVec 32) : Prop :=
  (∀ k0_t57 : Fin (k0_t57_loop v228 v257).trips, ∀ a, (k0_off2675 v1 k0_t51 v228 v257 k0_t57) a + S1x1x1x16x128.size a ≤ S2x2x108x128x128.size a) ∧
  (∀ k0_t57 : Fin (k0_t57_loop v228 v257).trips, ∀ (hinb : ∀ a, (k0_off2675 v1 k0_t51 v228 v257 k0_t57) a + S1x1x1x16x128.size a ≤ S2x2x108x128x128.size a), (Rect.unit (s := S2x2x108x128x128) (k0_off2675 v1 k0_t51 v228 v257 k0_t57) S1x1x1x16x128.size hinb).PackedRows (EltTy.packing .bf16)) ∧
  (∀ k0_t57 : Fin (k0_t57_loop v228 v257).trips, ∀ a, (k0_off2676 v1 k0_t51 v228 v257 k0_t57) a + S1x1x1x16x128.size a ≤ S2x2x108x128x128.size a) ∧
  (∀ k0_t57 : Fin (k0_t57_loop v228 v257).trips, ∀ (hinb : ∀ a, (k0_off2676 v1 k0_t51 v228 v257 k0_t57) a + S1x1x1x16x128.size a ≤ S2x2x108x128x128.size a), (Rect.unit (s := S2x2x108x128x128) (k0_off2676 v1 k0_t51 v228 v257 k0_t57) S1x1x1x16x128.size hinb).PackedRows (EltTy.packing .bf16)) ∧
  (∀ k0_t57 : Fin (k0_t57_loop v228 v257).trips, ∀ a, (k0_off2677 v1 k0_t51 v228 v257 k0_t57) a + S1x1x1x16x128.size a ≤ S2x2x108x128x128.size a) ∧
  (∀ k0_t57 : Fin (k0_t57_loop v228 v257).trips, ∀ (hinb : ∀ a, (k0_off2677 v1 k0_t51 v228 v257 k0_t57) a + S1x1x1x16x128.size a ≤ S2x2x108x128x128.size a), (Rect.unit (s := S2x2x108x128x128) (k0_off2677 v1 k0_t51 v228 v257 k0_t57) S1x1x1x16x128.size hinb).PackedRows (EltTy.packing .bf16)) ∧
  (∀ k0_t57 : Fin (k0_t57_loop v228 v257).trips, ∀ a, (k0_off2678 v1 k0_t51 v228 v257 k0_t57) a + S1x1x1x16x128.size a ≤ S2x2x108x128x128.size a) ∧
  (∀ k0_t57 : Fin (k0_t57_loop v228 v257).trips, ∀ (hinb : ∀ a, (k0_off2678 v1 k0_t51 v228 v257 k0_t57) a + S1x1x1x16x128.size a ≤ S2x2x108x128x128.size a), (Rect.unit (s := S2x2x108x128x128) (k0_off2678 v1 k0_t51 v228 v257 k0_t57) S1x1x1x16x128.size hinb).PackedRows (EltTy.packing .bf16)) ∧
  (∀ k0_t57 : Fin (k0_t57_loop v228 v257).trips, ∀ a, (k0_off2679 v1 k0_t51 v228 v257 k0_t57) a + S1x1x1x16x128.size a ≤ S2x2x108x128x128.size a) ∧
  (∀ k0_t57 : Fin (k0_t57_loop v228 v257).trips, ∀ (hinb : ∀ a, (k0_off2679 v1 k0_t51 v228 v257 k0_t57) a + S1x1x1x16x128.size a ≤ S2x2x108x128x128.size a), (Rect.unit (s := S2x2x108x128x128) (k0_off2679 v1 k0_t51 v228 v257 k0_t57) S1x1x1x16x128.size hinb).PackedRows (EltTy.packing .bf16)) ∧
  (∀ k0_t57 : Fin (k0_t57_loop v228 v257).trips, ∀ a, (k0_off2680 v1 k0_t51 v228 v257 k0_t57) a + S1x1x1x16x128.size a ≤ S2x2x108x128x128.size a) ∧
  (∀ k0_t57 : Fin (k0_t57_loop v228 v257).trips, ∀ (hinb : ∀ a, (k0_off2680 v1 k0_t51 v228 v257 k0_t57) a + S1x1x1x16x128.size a ≤ S2x2x108x128x128.size a), (Rect.unit (s := S2x2x108x128x128) (k0_off2680 v1 k0_t51 v228 v257 k0_t57) S1x1x1x16x128.size hinb).PackedRows (EltTy.packing .bf16)) ∧
  (∀ k0_t57 : Fin (k0_t57_loop v228 v257).trips, ∀ a, (k0_off2681 v1 k0_t51 v228 v257 k0_t57) a + S1x1x1x16x128.size a ≤ S2x2x108x128x128.size a) ∧
  (∀ k0_t57 : Fin (k0_t57_loop v228 v257).trips, ∀ (hinb : ∀ a, (k0_off2681 v1 k0_t51 v228 v257 k0_t57) a + S1x1x1x16x128.size a ≤ S2x2x108x128x128.size a), (Rect.unit (s := S2x2x108x128x128) (k0_off2681 v1 k0_t51 v228 v257 k0_t57) S1x1x1x16x128.size hinb).PackedRows (EltTy.packing .bf16)) ∧
  (∀ k0_t57 : Fin (k0_t57_loop v228 v257).trips, ∀ a, (k0_off2682 v1 k0_t51 v228 v257 k0_t57) a + S1x1x1x16x128.size a ≤ S2x2x108x128x128.size a) ∧
  (∀ k0_t57 : Fin (k0_t57_loop v228 v257).trips, ∀ (hinb : ∀ a, (k0_off2682 v1 k0_t51 v228 v257 k0_t57) a + S1x1x1x16x128.size a ≤ S2x2x108x128x128.size a), (Rect.unit (s := S2x2x108x128x128) (k0_off2682 v1 k0_t51 v228 v257 k0_t57) S1x1x1x16x128.size hinb).PackedRows (EltTy.packing .bf16)) ∧
  (∀ k0_t57 : Fin (k0_t57_loop v228 v257).trips, ∀ a, (k0_off2683 v1 k0_t51 v228 v257 k0_t57) a + S1x1x1x16x128.size a ≤ S2x2x108x128x128.size a) ∧
  (∀ k0_t57 : Fin (k0_t57_loop v228 v257).trips, ∀ (hinb : ∀ a, (k0_off2683 v1 k0_t51 v228 v257 k0_t57) a + S1x1x1x16x128.size a ≤ S2x2x108x128x128.size a), (Rect.unit (s := S2x2x108x128x128) (k0_off2683 v1 k0_t51 v228 v257 k0_t57) S1x1x1x16x128.size hinb).PackedRows (EltTy.packing .bf16)) ∧
  (∀ k0_t57 : Fin (k0_t57_loop v228 v257).trips, ∀ a, (k0_off2684 v1 k0_t51 v228 v257 k0_t57) a + S1x1x1x16x128.size a ≤ S2x2x108x128x128.size a) ∧
  (∀ k0_t57 : Fin (k0_t57_loop v228 v257).trips, ∀ (hinb : ∀ a, (k0_off2684 v1 k0_t51 v228 v257 k0_t57) a + S1x1x1x16x128.size a ≤ S2x2x108x128x128.size a), (Rect.unit (s := S2x2x108x128x128) (k0_off2684 v1 k0_t51 v228 v257 k0_t57) S1x1x1x16x128.size hinb).PackedRows (EltTy.packing .bf16)) ∧
  (∀ k0_t57 : Fin (k0_t57_loop v228 v257).trips, ∀ a, (k0_off2685 v1 k0_t51 v228 v257 k0_t57) a + S1x1x1x16x128.size a ≤ S2x2x108x128x128.size a) ∧
  (∀ k0_t57 : Fin (k0_t57_loop v228 v257).trips, ∀ (hinb : ∀ a, (k0_off2685 v1 k0_t51 v228 v257 k0_t57) a + S1x1x1x16x128.size a ≤ S2x2x108x128x128.size a), (Rect.unit (s := S2x2x108x128x128) (k0_off2685 v1 k0_t51 v228 v257 k0_t57) S1x1x1x16x128.size hinb).PackedRows (EltTy.packing .bf16)) ∧
  (∀ k0_t57 : Fin (k0_t57_loop v228 v257).trips, ∀ a, (k0_off2686 v1 k0_t51 v228 v257 k0_t57) a + S1x1x1x16x128.size a ≤ S2x2x108x128x128.size a) ∧
  (∀ k0_t57 : Fin (k0_t57_loop v228 v257).trips, ∀ (hinb : ∀ a, (k0_off2686 v1 k0_t51 v228 v257 k0_t57) a + S1x1x1x16x128.size a ≤ S2x2x108x128x128.size a), (Rect.unit (s := S2x2x108x128x128) (k0_off2686 v1 k0_t51 v228 v257 k0_t57) S1x1x1x16x128.size hinb).PackedRows (EltTy.packing .bf16)) ∧
  (∀ k0_t57 : Fin (k0_t57_loop v228 v257).trips, ∀ a, (k0_off2687 v1 k0_t51 v228 v257 k0_t57) a + S1x1x1x16x128.size a ≤ S2x2x108x128x128.size a) ∧
  (∀ k0_t57 : Fin (k0_t57_loop v228 v257).trips, ∀ (hinb : ∀ a, (k0_off2687 v1 k0_t51 v228 v257 k0_t57) a + S1x1x1x16x128.size a ≤ S2x2x108x128x128.size a), (Rect.unit (s := S2x2x108x128x128) (k0_off2687 v1 k0_t51 v228 v257 k0_t57) S1x1x1x16x128.size hinb).PackedRows (EltTy.packing .bf16)) ∧
  (∀ k0_t57 : Fin (k0_t57_loop v228 v257).trips, ∀ a, (k0_off2688 v1 k0_t51 v228 v257 k0_t57) a + S1x1x1x16x128.size a ≤ S2x2x108x128x128.size a) ∧
  (∀ k0_t57 : Fin (k0_t57_loop v228 v257).trips, ∀ (hinb : ∀ a, (k0_off2688 v1 k0_t51 v228 v257 k0_t57) a + S1x1x1x16x128.size a ≤ S2x2x108x128x128.size a), (Rect.unit (s := S2x2x108x128x128) (k0_off2688 v1 k0_t51 v228 v257 k0_t57) S1x1x1x16x128.size hinb).PackedRows (EltTy.packing .bf16)) ∧
  (∀ k0_t57 : Fin (k0_t57_loop v228 v257).trips, ∀ a, (k0_off2689 v1 k0_t51 v228 v257 k0_t57) a + S1x1x1x16x128.size a ≤ S2x2x108x128x128.size a) ∧
  (∀ k0_t57 : Fin (k0_t57_loop v228 v257).trips, ∀ (hinb : ∀ a, (k0_off2689 v1 k0_t51 v228 v257 k0_t57) a + S1x1x1x16x128.size a ≤ S2x2x108x128x128.size a), (Rect.unit (s := S2x2x108x128x128) (k0_off2689 v1 k0_t51 v228 v257 k0_t57) S1x1x1x16x128.size hinb).PackedRows (EltTy.packing .bf16)) ∧
  (∀ k0_t57 : Fin (k0_t57_loop v228 v257).trips, ∀ a, (k0_off2690 v1 k0_t51 v228 v257 k0_t57) a + S1x1x1x16x128.size a ≤ S2x2x108x128x128.size a) ∧
  (∀ k0_t57 : Fin (k0_t57_loop v228 v257).trips, ∀ (hinb : ∀ a, (k0_off2690 v1 k0_t51 v228 v257 k0_t57) a + S1x1x1x16x128.size a ≤ S2x2x108x128x128.size a), (Rect.unit (s := S2x2x108x128x128) (k0_off2690 v1 k0_t51 v228 v257 k0_t57) S1x1x1x16x128.size hinb).PackedRows (EltTy.packing .bf16))
def k0_chk35_29 (v1 : BitVec 32) (k0_t51 : Fin (k0_t51_loop v1).trips) (v228 : BitVec 32) (v257 : BitVec 32) : Prop :=
  (∀ k0_t57 : Fin (k0_t57_loop v228 v257).trips, ∀ a, (k0_off2691 v1 k0_t51 v228 v257 k0_t57) a + S1x1x1x16x128.size a ≤ S2x2x108x128x128.size a) ∧
  (∀ k0_t57 : Fin (k0_t57_loop v228 v257).trips, ∀ (hinb : ∀ a, (k0_off2691 v1 k0_t51 v228 v257 k0_t57) a + S1x1x1x16x128.size a ≤ S2x2x108x128x128.size a), (Rect.unit (s := S2x2x108x128x128) (k0_off2691 v1 k0_t51 v228 v257 k0_t57) S1x1x1x16x128.size hinb).PackedRows (EltTy.packing .bf16)) ∧
  (∀ k0_t57 : Fin (k0_t57_loop v228 v257).trips, ∀ a, (k0_off2692 v1 k0_t51 v228 v257 k0_t57) a + S1x1x1x16x128.size a ≤ S2x2x108x128x128.size a) ∧
  (∀ k0_t57 : Fin (k0_t57_loop v228 v257).trips, ∀ (hinb : ∀ a, (k0_off2692 v1 k0_t51 v228 v257 k0_t57) a + S1x1x1x16x128.size a ≤ S2x2x108x128x128.size a), (Rect.unit (s := S2x2x108x128x128) (k0_off2692 v1 k0_t51 v228 v257 k0_t57) S1x1x1x16x128.size hinb).PackedRows (EltTy.packing .bf16)) ∧
  (∀ k0_t57 : Fin (k0_t57_loop v228 v257).trips, ∀ a, (k0_off2693 v1 k0_t51 v228 v257 k0_t57) a + S1x1x1x16x128.size a ≤ S2x2x108x128x128.size a) ∧
  (∀ k0_t57 : Fin (k0_t57_loop v228 v257).trips, ∀ (hinb : ∀ a, (k0_off2693 v1 k0_t51 v228 v257 k0_t57) a + S1x1x1x16x128.size a ≤ S2x2x108x128x128.size a), (Rect.unit (s := S2x2x108x128x128) (k0_off2693 v1 k0_t51 v228 v257 k0_t57) S1x1x1x16x128.size hinb).PackedRows (EltTy.packing .bf16)) ∧
  (∀ k0_t57 : Fin (k0_t57_loop v228 v257).trips, ∀ a, (k0_off2694 v1 k0_t51 v228 v257 k0_t57) a + S1x1x1x16x128.size a ≤ S2x2x108x128x128.size a) ∧
  (∀ k0_t57 : Fin (k0_t57_loop v228 v257).trips, ∀ (hinb : ∀ a, (k0_off2694 v1 k0_t51 v228 v257 k0_t57) a + S1x1x1x16x128.size a ≤ S2x2x108x128x128.size a), (Rect.unit (s := S2x2x108x128x128) (k0_off2694 v1 k0_t51 v228 v257 k0_t57) S1x1x1x16x128.size hinb).PackedRows (EltTy.packing .bf16)) ∧
  (∀ k0_t57 : Fin (k0_t57_loop v228 v257).trips, ∀ a, (k0_off2695 v1 k0_t51 v228 v257 k0_t57) a + S1x1x1x16x128.size a ≤ S2x2x108x128x128.size a) ∧
  (∀ k0_t57 : Fin (k0_t57_loop v228 v257).trips, ∀ (hinb : ∀ a, (k0_off2695 v1 k0_t51 v228 v257 k0_t57) a + S1x1x1x16x128.size a ≤ S2x2x108x128x128.size a), (Rect.unit (s := S2x2x108x128x128) (k0_off2695 v1 k0_t51 v228 v257 k0_t57) S1x1x1x16x128.size hinb).PackedRows (EltTy.packing .bf16)) ∧
  (∀ k0_t57 : Fin (k0_t57_loop v228 v257).trips, ∀ a, (k0_off2696 v1 k0_t51 v228 v257 k0_t57) a + S1x1x1x16x128.size a ≤ S2x2x108x128x128.size a) ∧
  (∀ k0_t57 : Fin (k0_t57_loop v228 v257).trips, ∀ (hinb : ∀ a, (k0_off2696 v1 k0_t51 v228 v257 k0_t57) a + S1x1x1x16x128.size a ≤ S2x2x108x128x128.size a), (Rect.unit (s := S2x2x108x128x128) (k0_off2696 v1 k0_t51 v228 v257 k0_t57) S1x1x1x16x128.size hinb).PackedRows (EltTy.packing .bf16)) ∧
  (∀ k0_t57 : Fin (k0_t57_loop v228 v257).trips, ∀ a, (k0_off2697 v1 k0_t51 v228 v257 k0_t57) a + S1x1x1x16x128.size a ≤ S2x2x108x128x128.size a) ∧
  (∀ k0_t57 : Fin (k0_t57_loop v228 v257).trips, ∀ (hinb : ∀ a, (k0_off2697 v1 k0_t51 v228 v257 k0_t57) a + S1x1x1x16x128.size a ≤ S2x2x108x128x128.size a), (Rect.unit (s := S2x2x108x128x128) (k0_off2697 v1 k0_t51 v228 v257 k0_t57) S1x1x1x16x128.size hinb).PackedRows (EltTy.packing .bf16)) ∧
  (∀ k0_t57 : Fin (k0_t57_loop v228 v257).trips, ∀ a, (k0_off2698 v1 k0_t51 v228 v257 k0_t57) a + S1x1x1x16x128.size a ≤ S2x2x108x128x128.size a) ∧
  (∀ k0_t57 : Fin (k0_t57_loop v228 v257).trips, ∀ (hinb : ∀ a, (k0_off2698 v1 k0_t51 v228 v257 k0_t57) a + S1x1x1x16x128.size a ≤ S2x2x108x128x128.size a), (Rect.unit (s := S2x2x108x128x128) (k0_off2698 v1 k0_t51 v228 v257 k0_t57) S1x1x1x16x128.size hinb).PackedRows (EltTy.packing .bf16)) ∧
  (∀ k0_t57 : Fin (k0_t57_loop v228 v257).trips, ∀ a, (k0_off2699 v1 k0_t51 v228 v257 k0_t57) a + S1x1x1x16x128.size a ≤ S2x2x108x128x128.size a) ∧
  (∀ k0_t57 : Fin (k0_t57_loop v228 v257).trips, ∀ (hinb : ∀ a, (k0_off2699 v1 k0_t51 v228 v257 k0_t57) a + S1x1x1x16x128.size a ≤ S2x2x108x128x128.size a), (Rect.unit (s := S2x2x108x128x128) (k0_off2699 v1 k0_t51 v228 v257 k0_t57) S1x1x1x16x128.size hinb).PackedRows (EltTy.packing .bf16)) ∧
  (∀ k0_t57 : Fin (k0_t57_loop v228 v257).trips, ∀ a, (k0_off2700 v1 k0_t51 v228 v257 k0_t57) a + S1x1x1x16x128.size a ≤ S2x2x108x128x128.size a) ∧
  (∀ k0_t57 : Fin (k0_t57_loop v228 v257).trips, ∀ (hinb : ∀ a, (k0_off2700 v1 k0_t51 v228 v257 k0_t57) a + S1x1x1x16x128.size a ≤ S2x2x108x128x128.size a), (Rect.unit (s := S2x2x108x128x128) (k0_off2700 v1 k0_t51 v228 v257 k0_t57) S1x1x1x16x128.size hinb).PackedRows (EltTy.packing .bf16)) ∧
  (∀ k0_t57 : Fin (k0_t57_loop v228 v257).trips, ∀ a, (k0_off2701 v1 k0_t51 v228 v257 k0_t57) a + S1x1x1x16x128.size a ≤ S2x2x108x128x128.size a) ∧
  (∀ k0_t57 : Fin (k0_t57_loop v228 v257).trips, ∀ (hinb : ∀ a, (k0_off2701 v1 k0_t51 v228 v257 k0_t57) a + S1x1x1x16x128.size a ≤ S2x2x108x128x128.size a), (Rect.unit (s := S2x2x108x128x128) (k0_off2701 v1 k0_t51 v228 v257 k0_t57) S1x1x1x16x128.size hinb).PackedRows (EltTy.packing .bf16)) ∧
  (∀ k0_t57 : Fin (k0_t57_loop v228 v257).trips, ∀ a, (k0_off2702 v1 k0_t51 v228 v257 k0_t57) a + S1x1x1x16x128.size a ≤ S2x2x108x128x128.size a) ∧
  (∀ k0_t57 : Fin (k0_t57_loop v228 v257).trips, ∀ (hinb : ∀ a, (k0_off2702 v1 k0_t51 v228 v257 k0_t57) a + S1x1x1x16x128.size a ≤ S2x2x108x128x128.size a), (Rect.unit (s := S2x2x108x128x128) (k0_off2702 v1 k0_t51 v228 v257 k0_t57) S1x1x1x16x128.size hinb).PackedRows (EltTy.packing .bf16)) ∧
  (∀ k0_t57 : Fin (k0_t57_loop v228 v257).trips, ∀ a, (k0_off2703 v1 k0_t51 v228 v257 k0_t57) a + S1x1x1x16x128.size a ≤ S2x2x108x128x128.size a) ∧
  (∀ k0_t57 : Fin (k0_t57_loop v228 v257).trips, ∀ (hinb : ∀ a, (k0_off2703 v1 k0_t51 v228 v257 k0_t57) a + S1x1x1x16x128.size a ≤ S2x2x108x128x128.size a), (Rect.unit (s := S2x2x108x128x128) (k0_off2703 v1 k0_t51 v228 v257 k0_t57) S1x1x1x16x128.size hinb).PackedRows (EltTy.packing .bf16)) ∧
  (∀ k0_t57 : Fin (k0_t57_loop v228 v257).trips, ∀ a, (k0_off2704 v1 k0_t51 v228 v257 k0_t57) a + S1x1x1x16x128.size a ≤ S2x2x108x128x128.size a) ∧
  (∀ k0_t57 : Fin (k0_t57_loop v228 v257).trips, ∀ (hinb : ∀ a, (k0_off2704 v1 k0_t51 v228 v257 k0_t57) a + S1x1x1x16x128.size a ≤ S2x2x108x128x128.size a), (Rect.unit (s := S2x2x108x128x128) (k0_off2704 v1 k0_t51 v228 v257 k0_t57) S1x1x1x16x128.size hinb).PackedRows (EltTy.packing .bf16)) ∧
  (∀ k0_t57 : Fin (k0_t57_loop v228 v257).trips, ∀ a, (k0_off2705 v1 k0_t51 v228 v257 k0_t57) a + S1x1x1x16x128.size a ≤ S2x2x108x128x128.size a) ∧
  (∀ k0_t57 : Fin (k0_t57_loop v228 v257).trips, ∀ (hinb : ∀ a, (k0_off2705 v1 k0_t51 v228 v257 k0_t57) a + S1x1x1x16x128.size a ≤ S2x2x108x128x128.size a), (Rect.unit (s := S2x2x108x128x128) (k0_off2705 v1 k0_t51 v228 v257 k0_t57) S1x1x1x16x128.size hinb).PackedRows (EltTy.packing .bf16)) ∧
  (∀ k0_t57 : Fin (k0_t57_loop v228 v257).trips, ∀ a, (k0_off2706 v1 k0_t51 v228 v257 k0_t57) a + S1x1x1x16x128.size a ≤ S2x2x108x128x128.size a) ∧
  (∀ k0_t57 : Fin (k0_t57_loop v228 v257).trips, ∀ (hinb : ∀ a, (k0_off2706 v1 k0_t51 v228 v257 k0_t57) a + S1x1x1x16x128.size a ≤ S2x2x108x128x128.size a), (Rect.unit (s := S2x2x108x128x128) (k0_off2706 v1 k0_t51 v228 v257 k0_t57) S1x1x1x16x128.size hinb).PackedRows (EltTy.packing .bf16))
def k0_chk35_30 (v1 : BitVec 32) (k0_t51 : Fin (k0_t51_loop v1).trips) (v228 : BitVec 32) (v257 : BitVec 32) : Prop :=
  (∀ k0_t57 : Fin (k0_t57_loop v228 v257).trips, ∀ a, (k0_off2707 v1 k0_t51 v228 v257 k0_t57) a + S1x1x1x16x128.size a ≤ S2x2x108x128x128.size a) ∧
  (∀ k0_t57 : Fin (k0_t57_loop v228 v257).trips, ∀ (hinb : ∀ a, (k0_off2707 v1 k0_t51 v228 v257 k0_t57) a + S1x1x1x16x128.size a ≤ S2x2x108x128x128.size a), (Rect.unit (s := S2x2x108x128x128) (k0_off2707 v1 k0_t51 v228 v257 k0_t57) S1x1x1x16x128.size hinb).PackedRows (EltTy.packing .bf16)) ∧
  (∀ k0_t57 : Fin (k0_t57_loop v228 v257).trips, ∀ a, (k0_off2708 v1 k0_t51 v228 v257 k0_t57) a + S1x1x1x16x128.size a ≤ S2x2x108x128x128.size a) ∧
  (∀ k0_t57 : Fin (k0_t57_loop v228 v257).trips, ∀ (hinb : ∀ a, (k0_off2708 v1 k0_t51 v228 v257 k0_t57) a + S1x1x1x16x128.size a ≤ S2x2x108x128x128.size a), (Rect.unit (s := S2x2x108x128x128) (k0_off2708 v1 k0_t51 v228 v257 k0_t57) S1x1x1x16x128.size hinb).PackedRows (EltTy.packing .bf16)) ∧
  (∀ k0_t57 : Fin (k0_t57_loop v228 v257).trips, ∀ a, (k0_off2709 v1 k0_t51 v228 v257 k0_t57) a + S1x1x1x16x128.size a ≤ S2x2x108x128x128.size a) ∧
  (∀ k0_t57 : Fin (k0_t57_loop v228 v257).trips, ∀ (hinb : ∀ a, (k0_off2709 v1 k0_t51 v228 v257 k0_t57) a + S1x1x1x16x128.size a ≤ S2x2x108x128x128.size a), (Rect.unit (s := S2x2x108x128x128) (k0_off2709 v1 k0_t51 v228 v257 k0_t57) S1x1x1x16x128.size hinb).PackedRows (EltTy.packing .bf16)) ∧
  (∀ k0_t57 : Fin (k0_t57_loop v228 v257).trips, ∀ a, (k0_off2710 v1 k0_t51 v228 v257 k0_t57) a + S1x1x1x16x128.size a ≤ S2x2x108x128x128.size a) ∧
  (∀ k0_t57 : Fin (k0_t57_loop v228 v257).trips, ∀ (hinb : ∀ a, (k0_off2710 v1 k0_t51 v228 v257 k0_t57) a + S1x1x1x16x128.size a ≤ S2x2x108x128x128.size a), (Rect.unit (s := S2x2x108x128x128) (k0_off2710 v1 k0_t51 v228 v257 k0_t57) S1x1x1x16x128.size hinb).PackedRows (EltTy.packing .bf16)) ∧
  (∀ k0_t57 : Fin (k0_t57_loop v228 v257).trips, ∀ a, (k0_off2711 v1 k0_t51 v228 v257 k0_t57) a + S1x1x1x16x128.size a ≤ S2x2x108x128x128.size a) ∧
  (∀ k0_t57 : Fin (k0_t57_loop v228 v257).trips, ∀ (hinb : ∀ a, (k0_off2711 v1 k0_t51 v228 v257 k0_t57) a + S1x1x1x16x128.size a ≤ S2x2x108x128x128.size a), (Rect.unit (s := S2x2x108x128x128) (k0_off2711 v1 k0_t51 v228 v257 k0_t57) S1x1x1x16x128.size hinb).PackedRows (EltTy.packing .bf16)) ∧
  (∀ k0_t57 : Fin (k0_t57_loop v228 v257).trips, ∀ a, (k0_off2712 v1 k0_t51 v228 v257 k0_t57) a + S1x1x1x16x128.size a ≤ S2x2x108x128x128.size a) ∧
  (∀ k0_t57 : Fin (k0_t57_loop v228 v257).trips, ∀ (hinb : ∀ a, (k0_off2712 v1 k0_t51 v228 v257 k0_t57) a + S1x1x1x16x128.size a ≤ S2x2x108x128x128.size a), (Rect.unit (s := S2x2x108x128x128) (k0_off2712 v1 k0_t51 v228 v257 k0_t57) S1x1x1x16x128.size hinb).PackedRows (EltTy.packing .bf16)) ∧
  (∀ k0_t57 : Fin (k0_t57_loop v228 v257).trips, ∀ a, (k0_off2713 v1 k0_t51 v228 v257 k0_t57) a + S1x1x1x16x128.size a ≤ S2x2x108x128x128.size a) ∧
  (∀ k0_t57 : Fin (k0_t57_loop v228 v257).trips, ∀ (hinb : ∀ a, (k0_off2713 v1 k0_t51 v228 v257 k0_t57) a + S1x1x1x16x128.size a ≤ S2x2x108x128x128.size a), (Rect.unit (s := S2x2x108x128x128) (k0_off2713 v1 k0_t51 v228 v257 k0_t57) S1x1x1x16x128.size hinb).PackedRows (EltTy.packing .bf16)) ∧
  (∀ k0_t57 : Fin (k0_t57_loop v228 v257).trips, ∀ a, (k0_off2714 v1 k0_t51 v228 v257 k0_t57) a + S1x1x1x16x128.size a ≤ S2x2x108x128x128.size a) ∧
  (∀ k0_t57 : Fin (k0_t57_loop v228 v257).trips, ∀ (hinb : ∀ a, (k0_off2714 v1 k0_t51 v228 v257 k0_t57) a + S1x1x1x16x128.size a ≤ S2x2x108x128x128.size a), (Rect.unit (s := S2x2x108x128x128) (k0_off2714 v1 k0_t51 v228 v257 k0_t57) S1x1x1x16x128.size hinb).PackedRows (EltTy.packing .bf16)) ∧
  (∀ k0_t57 : Fin (k0_t57_loop v228 v257).trips, ∀ a, (k0_off2715 v1 k0_t51 v228 v257 k0_t57) a + S1x1x1x16x128.size a ≤ S2x2x108x128x128.size a) ∧
  (∀ k0_t57 : Fin (k0_t57_loop v228 v257).trips, ∀ (hinb : ∀ a, (k0_off2715 v1 k0_t51 v228 v257 k0_t57) a + S1x1x1x16x128.size a ≤ S2x2x108x128x128.size a), (Rect.unit (s := S2x2x108x128x128) (k0_off2715 v1 k0_t51 v228 v257 k0_t57) S1x1x1x16x128.size hinb).PackedRows (EltTy.packing .bf16)) ∧
  (∀ k0_t57 : Fin (k0_t57_loop v228 v257).trips, ∀ a, (k0_off2716 v1 k0_t51 v228 v257 k0_t57) a + S1x1x1x16x128.size a ≤ S2x2x108x128x128.size a) ∧
  (∀ k0_t57 : Fin (k0_t57_loop v228 v257).trips, ∀ (hinb : ∀ a, (k0_off2716 v1 k0_t51 v228 v257 k0_t57) a + S1x1x1x16x128.size a ≤ S2x2x108x128x128.size a), (Rect.unit (s := S2x2x108x128x128) (k0_off2716 v1 k0_t51 v228 v257 k0_t57) S1x1x1x16x128.size hinb).PackedRows (EltTy.packing .bf16)) ∧
  (∀ k0_t57 : Fin (k0_t57_loop v228 v257).trips, ∀ a, (k0_off2717 v1 k0_t51 v228 v257 k0_t57) a + S1x1x1x16x128.size a ≤ S2x2x108x128x128.size a) ∧
  (∀ k0_t57 : Fin (k0_t57_loop v228 v257).trips, ∀ (hinb : ∀ a, (k0_off2717 v1 k0_t51 v228 v257 k0_t57) a + S1x1x1x16x128.size a ≤ S2x2x108x128x128.size a), (Rect.unit (s := S2x2x108x128x128) (k0_off2717 v1 k0_t51 v228 v257 k0_t57) S1x1x1x16x128.size hinb).PackedRows (EltTy.packing .bf16)) ∧
  (∀ k0_t57 : Fin (k0_t57_loop v228 v257).trips, ∀ a, (k0_off2718 v1 k0_t51 v228 v257 k0_t57) a + S1x1x1x16x128.size a ≤ S2x2x108x128x128.size a) ∧
  (∀ k0_t57 : Fin (k0_t57_loop v228 v257).trips, ∀ (hinb : ∀ a, (k0_off2718 v1 k0_t51 v228 v257 k0_t57) a + S1x1x1x16x128.size a ≤ S2x2x108x128x128.size a), (Rect.unit (s := S2x2x108x128x128) (k0_off2718 v1 k0_t51 v228 v257 k0_t57) S1x1x1x16x128.size hinb).PackedRows (EltTy.packing .bf16)) ∧
  (∀ k0_t57 : Fin (k0_t57_loop v228 v257).trips, ∀ a, (k0_off2719 v1 k0_t51 v228 v257 k0_t57) a + S1x1x1x16x128.size a ≤ S2x2x108x128x128.size a) ∧
  (∀ k0_t57 : Fin (k0_t57_loop v228 v257).trips, ∀ (hinb : ∀ a, (k0_off2719 v1 k0_t51 v228 v257 k0_t57) a + S1x1x1x16x128.size a ≤ S2x2x108x128x128.size a), (Rect.unit (s := S2x2x108x128x128) (k0_off2719 v1 k0_t51 v228 v257 k0_t57) S1x1x1x16x128.size hinb).PackedRows (EltTy.packing .bf16)) ∧
  (∀ k0_t57 : Fin (k0_t57_loop v228 v257).trips, ∀ a, (k0_off2720 v1 k0_t51 v228 v257 k0_t57) a + S1x1x1x16x128.size a ≤ S2x2x108x128x128.size a) ∧
  (∀ k0_t57 : Fin (k0_t57_loop v228 v257).trips, ∀ (hinb : ∀ a, (k0_off2720 v1 k0_t51 v228 v257 k0_t57) a + S1x1x1x16x128.size a ≤ S2x2x108x128x128.size a), (Rect.unit (s := S2x2x108x128x128) (k0_off2720 v1 k0_t51 v228 v257 k0_t57) S1x1x1x16x128.size hinb).PackedRows (EltTy.packing .bf16)) ∧
  (∀ k0_t57 : Fin (k0_t57_loop v228 v257).trips, ∀ a, (k0_off2721 v1 k0_t51 v228 v257 k0_t57) a + S1x1x1x16x128.size a ≤ S2x2x108x128x128.size a) ∧
  (∀ k0_t57 : Fin (k0_t57_loop v228 v257).trips, ∀ (hinb : ∀ a, (k0_off2721 v1 k0_t51 v228 v257 k0_t57) a + S1x1x1x16x128.size a ≤ S2x2x108x128x128.size a), (Rect.unit (s := S2x2x108x128x128) (k0_off2721 v1 k0_t51 v228 v257 k0_t57) S1x1x1x16x128.size hinb).PackedRows (EltTy.packing .bf16)) ∧
  (∀ k0_t57 : Fin (k0_t57_loop v228 v257).trips, ∀ a, (k0_off2722 v1 k0_t51 v228 v257 k0_t57) a + S1x1x1x16x128.size a ≤ S2x2x108x128x128.size a) ∧
  (∀ k0_t57 : Fin (k0_t57_loop v228 v257).trips, ∀ (hinb : ∀ a, (k0_off2722 v1 k0_t51 v228 v257 k0_t57) a + S1x1x1x16x128.size a ≤ S2x2x108x128x128.size a), (Rect.unit (s := S2x2x108x128x128) (k0_off2722 v1 k0_t51 v228 v257 k0_t57) S1x1x1x16x128.size hinb).PackedRows (EltTy.packing .bf16))
def k0_chk35_31 (v1 : BitVec 32) (k0_t51 : Fin (k0_t51_loop v1).trips) (v228 : BitVec 32) (v257 : BitVec 32) : Prop :=
  ((k0_t60_loop v228 v257).OK) ∧
  (∀ k0_t60 : Fin (k0_t60_loop v228 v257).trips, ∀ a, (k0_off2736 v1 k0_t51) a + S1x1.size a ≤ S2x2.size a) ∧
  (∀ k0_t60 : Fin (k0_t60_loop v228 v257).trips, ∀ a, (k0_off2737 v1 k0_t51 v228 v257 k0_t60) a + S1x1x1x1728x128.size a ≤ S2x2x8x1728x128.size a) ∧
  (∀ k0_t60 : Fin (k0_t60_loop v228 v257).trips, ∀ (hinb : ∀ a, (k0_off2737 v1 k0_t51 v228 v257 k0_t60) a + S1x1x1x1728x128.size a ≤ S2x2x8x1728x128.size a), (Rect.unit (s := S2x2x8x1728x128) (k0_off2737 v1 k0_t51 v228 v257 k0_t60) S1x1x1x1728x128.size hinb).WholeWords (EltTy.packing .fp8e4m3)) ∧
  ((k0_t61_loop v228 v257).OK) ∧
  (∀ k0_t61 : Fin (k0_t61_loop v228 v257).trips, ∀ a, (k0_off2738 v1 k0_t51) a + S1x1.size a ≤ S2x2.size a) ∧
  (∀ k0_t61 : Fin (k0_t61_loop v228 v257).trips, ∀ a, (k0_off2739 v1 k0_t51 v228 v257 k0_t61) a + S1x1x1x1728x128.size a ≤ S2x2x8x1728x128.size a) ∧
  (∀ k0_t61 : Fin (k0_t61_loop v228 v257).trips, ∀ (hinb : ∀ a, (k0_off2739 v1 k0_t51 v228 v257 k0_t61) a + S1x1x1x1728x128.size a ≤ S2x2x8x1728x128.size a), (Rect.unit (s := S2x2x8x1728x128) (k0_off2739 v1 k0_t51 v228 v257 k0_t61) S1x1x1x1728x128.size hinb).WholeWords (EltTy.packing .fp8e4m3)) ∧
  ((k0_t62_loop v228 v257).OK) ∧
  (∀ k0_t62 : Fin (k0_t62_loop v228 v257).trips, ∀ a, (k0_off2742 v228 v257 k0_t62) a + S1x1.size a ≤ S8x128.size a) ∧
  (∀ k0_t62 : Fin (k0_t62_loop v228 v257).trips, ∀ a, (k0_off2743 v228) a + S1.size a ≤ S8.size a) ∧
  (∀ k0_t62 : Fin (k0_t62_loop v228 v257).trips, 16 ∣ (k0_mult24 v228 v257 k0_t62).toNat) ∧
  (∀ k0_t62 : Fin (k0_t62_loop v228 v257).trips, ∀ a, (k0_off2744 v1 k0_t51 v228 v257 k0_t62) a + S1x1x1x32x128.size a ≤ S2x2x8x1728x128.size a) ∧
  (∀ k0_t62 : Fin (k0_t62_loop v228 v257).trips, ∀ a, (k0_off2746 v1 k0_t51 v228 v257 k0_t62) a + S1x1x1x16x128.size a ≤ S2x2x108x128x128.size a) ∧
  (∀ k0_t62 : Fin (k0_t62_loop v228 v257).trips, ∀ (hinb : ∀ a, (k0_off2746 v1 k0_t51 v228 v257 k0_t62) a + S1x1x1x16x128.size a ≤ S2x2x108x128x128.size a), (Rect.unit (s := S2x2x108x128x128) (k0_off2746 v1 k0_t51 v228 v257 k0_t62) S1x1x1x16x128.size hinb).PackedRows (EltTy.packing .bf16)) ∧
  (∀ k0_t62 : Fin (k0_t62_loop v228 v257).trips, ∀ a, (k0_off2748 v1 k0_t51 v228 v257 k0_t62) a + S1x1x1x16x128.size a ≤ S2x2x108x128x128.size a) ∧
  (∀ k0_t62 : Fin (k0_t62_loop v228 v257).trips, ∀ (hinb : ∀ a, (k0_off2748 v1 k0_t51 v228 v257 k0_t62) a + S1x1x1x16x128.size a ≤ S2x2x108x128x128.size a), (Rect.unit (s := S2x2x108x128x128) (k0_off2748 v1 k0_t51 v228 v257 k0_t62) S1x1x1x16x128.size hinb).PackedRows (EltTy.packing .bf16)) ∧
  (∀ k0_t62 : Fin (k0_t62_loop v228 v257).trips, ∀ a, (k0_off2749 v1 k0_t51 v228 v257 k0_t62) a + S1x1x1x32x128.size a ≤ S2x2x8x1728x128.size a) ∧
  (∀ k0_t62 : Fin (k0_t62_loop v228 v257).trips, ∀ a, (k0_off2751 v1 k0_t51 v228 v257 k0_t62) a + S1x1x1x16x128.size a ≤ S2x2x108x128x128.size a) ∧
  (∀ k0_t62 : Fin (k0_t62_loop v228 v257).trips, ∀ (hinb : ∀ a, (k0_off2751 v1 k0_t51 v228 v257 k0_t62) a + S1x1x1x16x128.size a ≤ S2x2x108x128x128.size a), (Rect.unit (s := S2x2x108x128x128) (k0_off2751 v1 k0_t51 v228 v257 k0_t62) S1x1x1x16x128.size hinb).PackedRows (EltTy.packing .bf16)) ∧
  (∀ k0_t62 : Fin (k0_t62_loop v228 v257).trips, ∀ a, (k0_off2753 v1 k0_t51 v228 v257 k0_t62) a + S1x1x1x16x128.size a ≤ S2x2x108x128x128.size a) ∧
  (∀ k0_t62 : Fin (k0_t62_loop v228 v257).trips, ∀ (hinb : ∀ a, (k0_off2753 v1 k0_t51 v228 v257 k0_t62) a + S1x1x1x16x128.size a ≤ S2x2x108x128x128.size a), (Rect.unit (s := S2x2x108x128x128) (k0_off2753 v1 k0_t51 v228 v257 k0_t62) S1x1x1x16x128.size hinb).PackedRows (EltTy.packing .bf16)) ∧
  (∀ k0_t62 : Fin (k0_t62_loop v228 v257).trips, ∀ a, (k0_off2754 v1 k0_t51 v228 v257 k0_t62) a + S1x1x1x32x128.size a ≤ S2x2x8x1728x128.size a) ∧
  (∀ k0_t62 : Fin (k0_t62_loop v228 v257).trips, ∀ a, (k0_off2756 v1 k0_t51 v228 v257 k0_t62) a + S1x1x1x16x128.size a ≤ S2x2x108x128x128.size a) ∧
  (∀ k0_t62 : Fin (k0_t62_loop v228 v257).trips, ∀ (hinb : ∀ a, (k0_off2756 v1 k0_t51 v228 v257 k0_t62) a + S1x1x1x16x128.size a ≤ S2x2x108x128x128.size a), (Rect.unit (s := S2x2x108x128x128) (k0_off2756 v1 k0_t51 v228 v257 k0_t62) S1x1x1x16x128.size hinb).PackedRows (EltTy.packing .bf16)) ∧
  (∀ k0_t62 : Fin (k0_t62_loop v228 v257).trips, ∀ a, (k0_off2758 v1 k0_t51 v228 v257 k0_t62) a + S1x1x1x16x128.size a ≤ S2x2x108x128x128.size a) ∧
  (∀ k0_t62 : Fin (k0_t62_loop v228 v257).trips, ∀ (hinb : ∀ a, (k0_off2758 v1 k0_t51 v228 v257 k0_t62) a + S1x1x1x16x128.size a ≤ S2x2x108x128x128.size a), (Rect.unit (s := S2x2x108x128x128) (k0_off2758 v1 k0_t51 v228 v257 k0_t62) S1x1x1x16x128.size hinb).PackedRows (EltTy.packing .bf16)) ∧
  (∀ k0_t62 : Fin (k0_t62_loop v228 v257).trips, ∀ a, (k0_off2759 v1 k0_t51 v228 v257 k0_t62) a + S1x1x1x32x128.size a ≤ S2x2x8x1728x128.size a) ∧
  (∀ k0_t62 : Fin (k0_t62_loop v228 v257).trips, ∀ a, (k0_off2761 v1 k0_t51 v228 v257 k0_t62) a + S1x1x1x16x128.size a ≤ S2x2x108x128x128.size a) ∧
  (∀ k0_t62 : Fin (k0_t62_loop v228 v257).trips, ∀ (hinb : ∀ a, (k0_off2761 v1 k0_t51 v228 v257 k0_t62) a + S1x1x1x16x128.size a ≤ S2x2x108x128x128.size a), (Rect.unit (s := S2x2x108x128x128) (k0_off2761 v1 k0_t51 v228 v257 k0_t62) S1x1x1x16x128.size hinb).PackedRows (EltTy.packing .bf16)) ∧
  (∀ k0_t62 : Fin (k0_t62_loop v228 v257).trips, ∀ a, (k0_off2763 v1 k0_t51 v228 v257 k0_t62) a + S1x1x1x16x128.size a ≤ S2x2x108x128x128.size a) ∧
  (∀ k0_t62 : Fin (k0_t62_loop v228 v257).trips, ∀ (hinb : ∀ a, (k0_off2763 v1 k0_t51 v228 v257 k0_t62) a + S1x1x1x16x128.size a ≤ S2x2x108x128x128.size a), (Rect.unit (s := S2x2x108x128x128) (k0_off2763 v1 k0_t51 v228 v257 k0_t62) S1x1x1x16x128.size hinb).PackedRows (EltTy.packing .bf16))
def k0_chk35_32 (v1 : BitVec 32) (k0_t51 : Fin (k0_t51_loop v1).trips) (v228 : BitVec 32) (v257 : BitVec 32) : Prop :=
  (∀ k0_t62 : Fin (k0_t62_loop v228 v257).trips, ∀ a, (k0_off2764 v1 k0_t51 v228 v257 k0_t62) a + S1x1x1x32x128.size a ≤ S2x2x8x1728x128.size a) ∧
  (∀ k0_t62 : Fin (k0_t62_loop v228 v257).trips, ∀ a, (k0_off2766 v1 k0_t51 v228 v257 k0_t62) a + S1x1x1x16x128.size a ≤ S2x2x108x128x128.size a) ∧
  (∀ k0_t62 : Fin (k0_t62_loop v228 v257).trips, ∀ (hinb : ∀ a, (k0_off2766 v1 k0_t51 v228 v257 k0_t62) a + S1x1x1x16x128.size a ≤ S2x2x108x128x128.size a), (Rect.unit (s := S2x2x108x128x128) (k0_off2766 v1 k0_t51 v228 v257 k0_t62) S1x1x1x16x128.size hinb).PackedRows (EltTy.packing .bf16)) ∧
  (∀ k0_t62 : Fin (k0_t62_loop v228 v257).trips, ∀ a, (k0_off2768 v1 k0_t51 v228 v257 k0_t62) a + S1x1x1x16x128.size a ≤ S2x2x108x128x128.size a) ∧
  (∀ k0_t62 : Fin (k0_t62_loop v228 v257).trips, ∀ (hinb : ∀ a, (k0_off2768 v1 k0_t51 v228 v257 k0_t62) a + S1x1x1x16x128.size a ≤ S2x2x108x128x128.size a), (Rect.unit (s := S2x2x108x128x128) (k0_off2768 v1 k0_t51 v228 v257 k0_t62) S1x1x1x16x128.size hinb).PackedRows (EltTy.packing .bf16)) ∧
  (∀ k0_t62 : Fin (k0_t62_loop v228 v257).trips, ∀ a, (k0_off2769 v1 k0_t51 v228 v257 k0_t62) a + S1x1x1x32x128.size a ≤ S2x2x8x1728x128.size a) ∧
  (∀ k0_t62 : Fin (k0_t62_loop v228 v257).trips, ∀ a, (k0_off2771 v1 k0_t51 v228 v257 k0_t62) a + S1x1x1x16x128.size a ≤ S2x2x108x128x128.size a) ∧
  (∀ k0_t62 : Fin (k0_t62_loop v228 v257).trips, ∀ (hinb : ∀ a, (k0_off2771 v1 k0_t51 v228 v257 k0_t62) a + S1x1x1x16x128.size a ≤ S2x2x108x128x128.size a), (Rect.unit (s := S2x2x108x128x128) (k0_off2771 v1 k0_t51 v228 v257 k0_t62) S1x1x1x16x128.size hinb).PackedRows (EltTy.packing .bf16)) ∧
  (∀ k0_t62 : Fin (k0_t62_loop v228 v257).trips, ∀ a, (k0_off2773 v1 k0_t51 v228 v257 k0_t62) a + S1x1x1x16x128.size a ≤ S2x2x108x128x128.size a) ∧
  (∀ k0_t62 : Fin (k0_t62_loop v228 v257).trips, ∀ (hinb : ∀ a, (k0_off2773 v1 k0_t51 v228 v257 k0_t62) a + S1x1x1x16x128.size a ≤ S2x2x108x128x128.size a), (Rect.unit (s := S2x2x108x128x128) (k0_off2773 v1 k0_t51 v228 v257 k0_t62) S1x1x1x16x128.size hinb).PackedRows (EltTy.packing .bf16)) ∧
  (∀ k0_t62 : Fin (k0_t62_loop v228 v257).trips, ∀ a, (k0_off2774 v1 k0_t51 v228 v257 k0_t62) a + S1x1x1x32x128.size a ≤ S2x2x8x1728x128.size a) ∧
  (∀ k0_t62 : Fin (k0_t62_loop v228 v257).trips, ∀ a, (k0_off2776 v1 k0_t51 v228 v257 k0_t62) a + S1x1x1x16x128.size a ≤ S2x2x108x128x128.size a) ∧
  (∀ k0_t62 : Fin (k0_t62_loop v228 v257).trips, ∀ (hinb : ∀ a, (k0_off2776 v1 k0_t51 v228 v257 k0_t62) a + S1x1x1x16x128.size a ≤ S2x2x108x128x128.size a), (Rect.unit (s := S2x2x108x128x128) (k0_off2776 v1 k0_t51 v228 v257 k0_t62) S1x1x1x16x128.size hinb).PackedRows (EltTy.packing .bf16)) ∧
  (∀ k0_t62 : Fin (k0_t62_loop v228 v257).trips, ∀ a, (k0_off2778 v1 k0_t51 v228 v257 k0_t62) a + S1x1x1x16x128.size a ≤ S2x2x108x128x128.size a) ∧
  (∀ k0_t62 : Fin (k0_t62_loop v228 v257).trips, ∀ (hinb : ∀ a, (k0_off2778 v1 k0_t51 v228 v257 k0_t62) a + S1x1x1x16x128.size a ≤ S2x2x108x128x128.size a), (Rect.unit (s := S2x2x108x128x128) (k0_off2778 v1 k0_t51 v228 v257 k0_t62) S1x1x1x16x128.size hinb).PackedRows (EltTy.packing .bf16)) ∧
  (∀ k0_t62 : Fin (k0_t62_loop v228 v257).trips, ∀ a, (k0_off2779 v1 k0_t51 v228 v257 k0_t62) a + S1x1x1x32x128.size a ≤ S2x2x8x1728x128.size a) ∧
  (∀ k0_t62 : Fin (k0_t62_loop v228 v257).trips, ∀ a, (k0_off2781 v1 k0_t51 v228 v257 k0_t62) a + S1x1x1x16x128.size a ≤ S2x2x108x128x128.size a) ∧
  (∀ k0_t62 : Fin (k0_t62_loop v228 v257).trips, ∀ (hinb : ∀ a, (k0_off2781 v1 k0_t51 v228 v257 k0_t62) a + S1x1x1x16x128.size a ≤ S2x2x108x128x128.size a), (Rect.unit (s := S2x2x108x128x128) (k0_off2781 v1 k0_t51 v228 v257 k0_t62) S1x1x1x16x128.size hinb).PackedRows (EltTy.packing .bf16)) ∧
  (∀ k0_t62 : Fin (k0_t62_loop v228 v257).trips, ∀ a, (k0_off2783 v1 k0_t51 v228 v257 k0_t62) a + S1x1x1x16x128.size a ≤ S2x2x108x128x128.size a) ∧
  (∀ k0_t62 : Fin (k0_t62_loop v228 v257).trips, ∀ (hinb : ∀ a, (k0_off2783 v1 k0_t51 v228 v257 k0_t62) a + S1x1x1x16x128.size a ≤ S2x2x108x128x128.size a), (Rect.unit (s := S2x2x108x128x128) (k0_off2783 v1 k0_t51 v228 v257 k0_t62) S1x1x1x16x128.size hinb).PackedRows (EltTy.packing .bf16)) ∧
  (∀ k0_t62 : Fin (k0_t62_loop v228 v257).trips, ∀ a, (k0_off2784 v1 k0_t51 v228 v257 k0_t62) a + S1x1x1x32x128.size a ≤ S2x2x8x1728x128.size a) ∧
  (∀ k0_t62 : Fin (k0_t62_loop v228 v257).trips, ∀ a, (k0_off2786 v1 k0_t51 v228 v257 k0_t62) a + S1x1x1x16x128.size a ≤ S2x2x108x128x128.size a) ∧
  (∀ k0_t62 : Fin (k0_t62_loop v228 v257).trips, ∀ (hinb : ∀ a, (k0_off2786 v1 k0_t51 v228 v257 k0_t62) a + S1x1x1x16x128.size a ≤ S2x2x108x128x128.size a), (Rect.unit (s := S2x2x108x128x128) (k0_off2786 v1 k0_t51 v228 v257 k0_t62) S1x1x1x16x128.size hinb).PackedRows (EltTy.packing .bf16)) ∧
  (∀ k0_t62 : Fin (k0_t62_loop v228 v257).trips, ∀ a, (k0_off2788 v1 k0_t51 v228 v257 k0_t62) a + S1x1x1x16x128.size a ≤ S2x2x108x128x128.size a) ∧
  (∀ k0_t62 : Fin (k0_t62_loop v228 v257).trips, ∀ (hinb : ∀ a, (k0_off2788 v1 k0_t51 v228 v257 k0_t62) a + S1x1x1x16x128.size a ≤ S2x2x108x128x128.size a), (Rect.unit (s := S2x2x108x128x128) (k0_off2788 v1 k0_t51 v228 v257 k0_t62) S1x1x1x16x128.size hinb).PackedRows (EltTy.packing .bf16)) ∧
  (∀ k0_t62 : Fin (k0_t62_loop v228 v257).trips, ∀ a, (k0_off2789 v1 k0_t51 v228 v257 k0_t62) a + S1x1x1x32x128.size a ≤ S2x2x8x1728x128.size a) ∧
  (∀ k0_t62 : Fin (k0_t62_loop v228 v257).trips, ∀ a, (k0_off2791 v1 k0_t51 v228 v257 k0_t62) a + S1x1x1x16x128.size a ≤ S2x2x108x128x128.size a) ∧
  (∀ k0_t62 : Fin (k0_t62_loop v228 v257).trips, ∀ (hinb : ∀ a, (k0_off2791 v1 k0_t51 v228 v257 k0_t62) a + S1x1x1x16x128.size a ≤ S2x2x108x128x128.size a), (Rect.unit (s := S2x2x108x128x128) (k0_off2791 v1 k0_t51 v228 v257 k0_t62) S1x1x1x16x128.size hinb).PackedRows (EltTy.packing .bf16)) ∧
  (∀ k0_t62 : Fin (k0_t62_loop v228 v257).trips, ∀ a, (k0_off2793 v1 k0_t51 v228 v257 k0_t62) a + S1x1x1x16x128.size a ≤ S2x2x108x128x128.size a) ∧
  (∀ k0_t62 : Fin (k0_t62_loop v228 v257).trips, ∀ (hinb : ∀ a, (k0_off2793 v1 k0_t51 v228 v257 k0_t62) a + S1x1x1x16x128.size a ≤ S2x2x108x128x128.size a), (Rect.unit (s := S2x2x108x128x128) (k0_off2793 v1 k0_t51 v228 v257 k0_t62) S1x1x1x16x128.size hinb).PackedRows (EltTy.packing .bf16)) ∧
  (∀ k0_t62 : Fin (k0_t62_loop v228 v257).trips, ∀ a, (k0_off2794 v1 k0_t51 v228 v257 k0_t62) a + S1x1x1x32x128.size a ≤ S2x2x8x1728x128.size a) ∧
  (∀ k0_t62 : Fin (k0_t62_loop v228 v257).trips, ∀ a, (k0_off2796 v1 k0_t51 v228 v257 k0_t62) a + S1x1x1x16x128.size a ≤ S2x2x108x128x128.size a)
def k0_chk35_33 (v1 : BitVec 32) (k0_t51 : Fin (k0_t51_loop v1).trips) (v228 : BitVec 32) (v257 : BitVec 32) : Prop :=
  (∀ k0_t62 : Fin (k0_t62_loop v228 v257).trips, ∀ (hinb : ∀ a, (k0_off2796 v1 k0_t51 v228 v257 k0_t62) a + S1x1x1x16x128.size a ≤ S2x2x108x128x128.size a), (Rect.unit (s := S2x2x108x128x128) (k0_off2796 v1 k0_t51 v228 v257 k0_t62) S1x1x1x16x128.size hinb).PackedRows (EltTy.packing .bf16)) ∧
  (∀ k0_t62 : Fin (k0_t62_loop v228 v257).trips, ∀ a, (k0_off2798 v1 k0_t51 v228 v257 k0_t62) a + S1x1x1x16x128.size a ≤ S2x2x108x128x128.size a) ∧
  (∀ k0_t62 : Fin (k0_t62_loop v228 v257).trips, ∀ (hinb : ∀ a, (k0_off2798 v1 k0_t51 v228 v257 k0_t62) a + S1x1x1x16x128.size a ≤ S2x2x108x128x128.size a), (Rect.unit (s := S2x2x108x128x128) (k0_off2798 v1 k0_t51 v228 v257 k0_t62) S1x1x1x16x128.size hinb).PackedRows (EltTy.packing .bf16)) ∧
  (∀ k0_t62 : Fin (k0_t62_loop v228 v257).trips, ∀ a, (k0_off2799 v1 k0_t51 v228 v257 k0_t62) a + S1x1x1x32x128.size a ≤ S2x2x8x1728x128.size a) ∧
  (∀ k0_t62 : Fin (k0_t62_loop v228 v257).trips, ∀ a, (k0_off2801 v1 k0_t51 v228 v257 k0_t62) a + S1x1x1x16x128.size a ≤ S2x2x108x128x128.size a) ∧
  (∀ k0_t62 : Fin (k0_t62_loop v228 v257).trips, ∀ (hinb : ∀ a, (k0_off2801 v1 k0_t51 v228 v257 k0_t62) a + S1x1x1x16x128.size a ≤ S2x2x108x128x128.size a), (Rect.unit (s := S2x2x108x128x128) (k0_off2801 v1 k0_t51 v228 v257 k0_t62) S1x1x1x16x128.size hinb).PackedRows (EltTy.packing .bf16)) ∧
  (∀ k0_t62 : Fin (k0_t62_loop v228 v257).trips, ∀ a, (k0_off2803 v1 k0_t51 v228 v257 k0_t62) a + S1x1x1x16x128.size a ≤ S2x2x108x128x128.size a) ∧
  (∀ k0_t62 : Fin (k0_t62_loop v228 v257).trips, ∀ (hinb : ∀ a, (k0_off2803 v1 k0_t51 v228 v257 k0_t62) a + S1x1x1x16x128.size a ≤ S2x2x108x128x128.size a), (Rect.unit (s := S2x2x108x128x128) (k0_off2803 v1 k0_t51 v228 v257 k0_t62) S1x1x1x16x128.size hinb).PackedRows (EltTy.packing .bf16)) ∧
  (∀ k0_t62 : Fin (k0_t62_loop v228 v257).trips, ∀ a, (k0_off2804 v1 k0_t51 v228 v257 k0_t62) a + S1x1x1x32x128.size a ≤ S2x2x8x1728x128.size a) ∧
  (∀ k0_t62 : Fin (k0_t62_loop v228 v257).trips, ∀ a, (k0_off2806 v1 k0_t51 v228 v257 k0_t62) a + S1x1x1x16x128.size a ≤ S2x2x108x128x128.size a) ∧
  (∀ k0_t62 : Fin (k0_t62_loop v228 v257).trips, ∀ (hinb : ∀ a, (k0_off2806 v1 k0_t51 v228 v257 k0_t62) a + S1x1x1x16x128.size a ≤ S2x2x108x128x128.size a), (Rect.unit (s := S2x2x108x128x128) (k0_off2806 v1 k0_t51 v228 v257 k0_t62) S1x1x1x16x128.size hinb).PackedRows (EltTy.packing .bf16)) ∧
  (∀ k0_t62 : Fin (k0_t62_loop v228 v257).trips, ∀ a, (k0_off2808 v1 k0_t51 v228 v257 k0_t62) a + S1x1x1x16x128.size a ≤ S2x2x108x128x128.size a) ∧
  (∀ k0_t62 : Fin (k0_t62_loop v228 v257).trips, ∀ (hinb : ∀ a, (k0_off2808 v1 k0_t51 v228 v257 k0_t62) a + S1x1x1x16x128.size a ≤ S2x2x108x128x128.size a), (Rect.unit (s := S2x2x108x128x128) (k0_off2808 v1 k0_t51 v228 v257 k0_t62) S1x1x1x16x128.size hinb).PackedRows (EltTy.packing .bf16)) ∧
  (∀ k0_t62 : Fin (k0_t62_loop v228 v257).trips, ∀ a, (k0_off2809 v1 k0_t51 v228 v257 k0_t62) a + S1x1x1x32x128.size a ≤ S2x2x8x1728x128.size a) ∧
  (∀ k0_t62 : Fin (k0_t62_loop v228 v257).trips, ∀ a, (k0_off2811 v1 k0_t51 v228 v257 k0_t62) a + S1x1x1x16x128.size a ≤ S2x2x108x128x128.size a) ∧
  (∀ k0_t62 : Fin (k0_t62_loop v228 v257).trips, ∀ (hinb : ∀ a, (k0_off2811 v1 k0_t51 v228 v257 k0_t62) a + S1x1x1x16x128.size a ≤ S2x2x108x128x128.size a), (Rect.unit (s := S2x2x108x128x128) (k0_off2811 v1 k0_t51 v228 v257 k0_t62) S1x1x1x16x128.size hinb).PackedRows (EltTy.packing .bf16)) ∧
  (∀ k0_t62 : Fin (k0_t62_loop v228 v257).trips, ∀ a, (k0_off2813 v1 k0_t51 v228 v257 k0_t62) a + S1x1x1x16x128.size a ≤ S2x2x108x128x128.size a) ∧
  (∀ k0_t62 : Fin (k0_t62_loop v228 v257).trips, ∀ (hinb : ∀ a, (k0_off2813 v1 k0_t51 v228 v257 k0_t62) a + S1x1x1x16x128.size a ≤ S2x2x108x128x128.size a), (Rect.unit (s := S2x2x108x128x128) (k0_off2813 v1 k0_t51 v228 v257 k0_t62) S1x1x1x16x128.size hinb).PackedRows (EltTy.packing .bf16)) ∧
  (∀ k0_t62 : Fin (k0_t62_loop v228 v257).trips, ∀ a, (k0_off2814 v1 k0_t51 v228 v257 k0_t62) a + S1x1x1x32x128.size a ≤ S2x2x8x1728x128.size a) ∧
  (∀ k0_t62 : Fin (k0_t62_loop v228 v257).trips, ∀ a, (k0_off2816 v1 k0_t51 v228 v257 k0_t62) a + S1x1x1x16x128.size a ≤ S2x2x108x128x128.size a) ∧
  (∀ k0_t62 : Fin (k0_t62_loop v228 v257).trips, ∀ (hinb : ∀ a, (k0_off2816 v1 k0_t51 v228 v257 k0_t62) a + S1x1x1x16x128.size a ≤ S2x2x108x128x128.size a), (Rect.unit (s := S2x2x108x128x128) (k0_off2816 v1 k0_t51 v228 v257 k0_t62) S1x1x1x16x128.size hinb).PackedRows (EltTy.packing .bf16)) ∧
  (∀ k0_t62 : Fin (k0_t62_loop v228 v257).trips, ∀ a, (k0_off2818 v1 k0_t51 v228 v257 k0_t62) a + S1x1x1x16x128.size a ≤ S2x2x108x128x128.size a) ∧
  (∀ k0_t62 : Fin (k0_t62_loop v228 v257).trips, ∀ (hinb : ∀ a, (k0_off2818 v1 k0_t51 v228 v257 k0_t62) a + S1x1x1x16x128.size a ≤ S2x2x108x128x128.size a), (Rect.unit (s := S2x2x108x128x128) (k0_off2818 v1 k0_t51 v228 v257 k0_t62) S1x1x1x16x128.size hinb).PackedRows (EltTy.packing .bf16)) ∧
  (∀ k0_t62 : Fin (k0_t62_loop v228 v257).trips, ∀ a, (k0_off2819 v1 k0_t51 v228 v257 k0_t62) a + S1x1x1x32x128.size a ≤ S2x2x8x1728x128.size a) ∧
  (∀ k0_t62 : Fin (k0_t62_loop v228 v257).trips, ∀ a, (k0_off2821 v1 k0_t51 v228 v257 k0_t62) a + S1x1x1x16x128.size a ≤ S2x2x108x128x128.size a) ∧
  (∀ k0_t62 : Fin (k0_t62_loop v228 v257).trips, ∀ (hinb : ∀ a, (k0_off2821 v1 k0_t51 v228 v257 k0_t62) a + S1x1x1x16x128.size a ≤ S2x2x108x128x128.size a), (Rect.unit (s := S2x2x108x128x128) (k0_off2821 v1 k0_t51 v228 v257 k0_t62) S1x1x1x16x128.size hinb).PackedRows (EltTy.packing .bf16)) ∧
  (∀ k0_t62 : Fin (k0_t62_loop v228 v257).trips, ∀ a, (k0_off2823 v1 k0_t51 v228 v257 k0_t62) a + S1x1x1x16x128.size a ≤ S2x2x108x128x128.size a) ∧
  (∀ k0_t62 : Fin (k0_t62_loop v228 v257).trips, ∀ (hinb : ∀ a, (k0_off2823 v1 k0_t51 v228 v257 k0_t62) a + S1x1x1x16x128.size a ≤ S2x2x108x128x128.size a), (Rect.unit (s := S2x2x108x128x128) (k0_off2823 v1 k0_t51 v228 v257 k0_t62) S1x1x1x16x128.size hinb).PackedRows (EltTy.packing .bf16)) ∧
  (∀ k0_t62 : Fin (k0_t62_loop v228 v257).trips, ∀ a, (k0_off2824 v1 k0_t51 v228 v257 k0_t62) a + S1x1x1x32x128.size a ≤ S2x2x8x1728x128.size a) ∧
  (∀ k0_t62 : Fin (k0_t62_loop v228 v257).trips, ∀ a, (k0_off2826 v1 k0_t51 v228 v257 k0_t62) a + S1x1x1x16x128.size a ≤ S2x2x108x128x128.size a) ∧
  (∀ k0_t62 : Fin (k0_t62_loop v228 v257).trips, ∀ (hinb : ∀ a, (k0_off2826 v1 k0_t51 v228 v257 k0_t62) a + S1x1x1x16x128.size a ≤ S2x2x108x128x128.size a), (Rect.unit (s := S2x2x108x128x128) (k0_off2826 v1 k0_t51 v228 v257 k0_t62) S1x1x1x16x128.size hinb).PackedRows (EltTy.packing .bf16)) ∧
  (∀ k0_t62 : Fin (k0_t62_loop v228 v257).trips, ∀ a, (k0_off2828 v1 k0_t51 v228 v257 k0_t62) a + S1x1x1x16x128.size a ≤ S2x2x108x128x128.size a)
def k0_chk35_34 (v1 : BitVec 32) (k0_t51 : Fin (k0_t51_loop v1).trips) (v228 : BitVec 32) (v257 : BitVec 32) : Prop :=
  (∀ k0_t62 : Fin (k0_t62_loop v228 v257).trips, ∀ (hinb : ∀ a, (k0_off2828 v1 k0_t51 v228 v257 k0_t62) a + S1x1x1x16x128.size a ≤ S2x2x108x128x128.size a), (Rect.unit (s := S2x2x108x128x128) (k0_off2828 v1 k0_t51 v228 v257 k0_t62) S1x1x1x16x128.size hinb).PackedRows (EltTy.packing .bf16)) ∧
  (∀ k0_t62 : Fin (k0_t62_loop v228 v257).trips, ∀ a, (k0_off2829 v1 k0_t51 v228 v257 k0_t62) a + S1x1x1x32x128.size a ≤ S2x2x8x1728x128.size a) ∧
  (∀ k0_t62 : Fin (k0_t62_loop v228 v257).trips, ∀ a, (k0_off2831 v1 k0_t51 v228 v257 k0_t62) a + S1x1x1x16x128.size a ≤ S2x2x108x128x128.size a) ∧
  (∀ k0_t62 : Fin (k0_t62_loop v228 v257).trips, ∀ (hinb : ∀ a, (k0_off2831 v1 k0_t51 v228 v257 k0_t62) a + S1x1x1x16x128.size a ≤ S2x2x108x128x128.size a), (Rect.unit (s := S2x2x108x128x128) (k0_off2831 v1 k0_t51 v228 v257 k0_t62) S1x1x1x16x128.size hinb).PackedRows (EltTy.packing .bf16)) ∧
  (∀ k0_t62 : Fin (k0_t62_loop v228 v257).trips, ∀ a, (k0_off2833 v1 k0_t51 v228 v257 k0_t62) a + S1x1x1x16x128.size a ≤ S2x2x108x128x128.size a) ∧
  (∀ k0_t62 : Fin (k0_t62_loop v228 v257).trips, ∀ (hinb : ∀ a, (k0_off2833 v1 k0_t51 v228 v257 k0_t62) a + S1x1x1x16x128.size a ≤ S2x2x108x128x128.size a), (Rect.unit (s := S2x2x108x128x128) (k0_off2833 v1 k0_t51 v228 v257 k0_t62) S1x1x1x16x128.size hinb).PackedRows (EltTy.packing .bf16)) ∧
  (∀ k0_t62 : Fin (k0_t62_loop v228 v257).trips, ∀ a, (k0_off2834 v1 k0_t51 v228 v257 k0_t62) a + S1x1x1x32x128.size a ≤ S2x2x8x1728x128.size a) ∧
  (∀ k0_t62 : Fin (k0_t62_loop v228 v257).trips, ∀ a, (k0_off2836 v1 k0_t51 v228 v257 k0_t62) a + S1x1x1x16x128.size a ≤ S2x2x108x128x128.size a) ∧
  (∀ k0_t62 : Fin (k0_t62_loop v228 v257).trips, ∀ (hinb : ∀ a, (k0_off2836 v1 k0_t51 v228 v257 k0_t62) a + S1x1x1x16x128.size a ≤ S2x2x108x128x128.size a), (Rect.unit (s := S2x2x108x128x128) (k0_off2836 v1 k0_t51 v228 v257 k0_t62) S1x1x1x16x128.size hinb).PackedRows (EltTy.packing .bf16)) ∧
  (∀ k0_t62 : Fin (k0_t62_loop v228 v257).trips, ∀ a, (k0_off2838 v1 k0_t51 v228 v257 k0_t62) a + S1x1x1x16x128.size a ≤ S2x2x108x128x128.size a) ∧
  (∀ k0_t62 : Fin (k0_t62_loop v228 v257).trips, ∀ (hinb : ∀ a, (k0_off2838 v1 k0_t51 v228 v257 k0_t62) a + S1x1x1x16x128.size a ≤ S2x2x108x128x128.size a), (Rect.unit (s := S2x2x108x128x128) (k0_off2838 v1 k0_t51 v228 v257 k0_t62) S1x1x1x16x128.size hinb).PackedRows (EltTy.packing .bf16)) ∧
  (∀ k0_t62 : Fin (k0_t62_loop v228 v257).trips, ∀ a, (k0_off2839 v1 k0_t51 v228 v257 k0_t62) a + S1x1x1x32x128.size a ≤ S2x2x8x1728x128.size a) ∧
  (∀ k0_t62 : Fin (k0_t62_loop v228 v257).trips, ∀ a, (k0_off2841 v1 k0_t51 v228 v257 k0_t62) a + S1x1x1x16x128.size a ≤ S2x2x108x128x128.size a) ∧
  (∀ k0_t62 : Fin (k0_t62_loop v228 v257).trips, ∀ (hinb : ∀ a, (k0_off2841 v1 k0_t51 v228 v257 k0_t62) a + S1x1x1x16x128.size a ≤ S2x2x108x128x128.size a), (Rect.unit (s := S2x2x108x128x128) (k0_off2841 v1 k0_t51 v228 v257 k0_t62) S1x1x1x16x128.size hinb).PackedRows (EltTy.packing .bf16)) ∧
  (∀ k0_t62 : Fin (k0_t62_loop v228 v257).trips, ∀ a, (k0_off2843 v1 k0_t51 v228 v257 k0_t62) a + S1x1x1x16x128.size a ≤ S2x2x108x128x128.size a) ∧
  (∀ k0_t62 : Fin (k0_t62_loop v228 v257).trips, ∀ (hinb : ∀ a, (k0_off2843 v1 k0_t51 v228 v257 k0_t62) a + S1x1x1x16x128.size a ≤ S2x2x108x128x128.size a), (Rect.unit (s := S2x2x108x128x128) (k0_off2843 v1 k0_t51 v228 v257 k0_t62) S1x1x1x16x128.size hinb).PackedRows (EltTy.packing .bf16)) ∧
  (∀ k0_t62 : Fin (k0_t62_loop v228 v257).trips, ∀ a, (k0_off2844 v1 k0_t51 v228 v257 k0_t62) a + S1x1x1x32x128.size a ≤ S2x2x8x1728x128.size a) ∧
  (∀ k0_t62 : Fin (k0_t62_loop v228 v257).trips, ∀ a, (k0_off2846 v1 k0_t51 v228 v257 k0_t62) a + S1x1x1x16x128.size a ≤ S2x2x108x128x128.size a) ∧
  (∀ k0_t62 : Fin (k0_t62_loop v228 v257).trips, ∀ (hinb : ∀ a, (k0_off2846 v1 k0_t51 v228 v257 k0_t62) a + S1x1x1x16x128.size a ≤ S2x2x108x128x128.size a), (Rect.unit (s := S2x2x108x128x128) (k0_off2846 v1 k0_t51 v228 v257 k0_t62) S1x1x1x16x128.size hinb).PackedRows (EltTy.packing .bf16)) ∧
  (∀ k0_t62 : Fin (k0_t62_loop v228 v257).trips, ∀ a, (k0_off2848 v1 k0_t51 v228 v257 k0_t62) a + S1x1x1x16x128.size a ≤ S2x2x108x128x128.size a) ∧
  (∀ k0_t62 : Fin (k0_t62_loop v228 v257).trips, ∀ (hinb : ∀ a, (k0_off2848 v1 k0_t51 v228 v257 k0_t62) a + S1x1x1x16x128.size a ≤ S2x2x108x128x128.size a), (Rect.unit (s := S2x2x108x128x128) (k0_off2848 v1 k0_t51 v228 v257 k0_t62) S1x1x1x16x128.size hinb).PackedRows (EltTy.packing .bf16)) ∧
  (∀ k0_t62 : Fin (k0_t62_loop v228 v257).trips, ∀ a, (k0_off2849 v1 k0_t51 v228 v257 k0_t62) a + S1x1x1x32x128.size a ≤ S2x2x8x1728x128.size a) ∧
  (∀ k0_t62 : Fin (k0_t62_loop v228 v257).trips, ∀ a, (k0_off2851 v1 k0_t51 v228 v257 k0_t62) a + S1x1x1x16x128.size a ≤ S2x2x108x128x128.size a) ∧
  (∀ k0_t62 : Fin (k0_t62_loop v228 v257).trips, ∀ (hinb : ∀ a, (k0_off2851 v1 k0_t51 v228 v257 k0_t62) a + S1x1x1x16x128.size a ≤ S2x2x108x128x128.size a), (Rect.unit (s := S2x2x108x128x128) (k0_off2851 v1 k0_t51 v228 v257 k0_t62) S1x1x1x16x128.size hinb).PackedRows (EltTy.packing .bf16)) ∧
  (∀ k0_t62 : Fin (k0_t62_loop v228 v257).trips, ∀ a, (k0_off2853 v1 k0_t51 v228 v257 k0_t62) a + S1x1x1x16x128.size a ≤ S2x2x108x128x128.size a) ∧
  (∀ k0_t62 : Fin (k0_t62_loop v228 v257).trips, ∀ (hinb : ∀ a, (k0_off2853 v1 k0_t51 v228 v257 k0_t62) a + S1x1x1x16x128.size a ≤ S2x2x108x128x128.size a), (Rect.unit (s := S2x2x108x128x128) (k0_off2853 v1 k0_t51 v228 v257 k0_t62) S1x1x1x16x128.size hinb).PackedRows (EltTy.packing .bf16)) ∧
  (∀ k0_t62 : Fin (k0_t62_loop v228 v257).trips, ∀ a, (k0_off2854 v1 k0_t51 v228 v257 k0_t62) a + S1x1x1x32x128.size a ≤ S2x2x8x1728x128.size a) ∧
  (∀ k0_t62 : Fin (k0_t62_loop v228 v257).trips, ∀ a, (k0_off2856 v1 k0_t51 v228 v257 k0_t62) a + S1x1x1x16x128.size a ≤ S2x2x108x128x128.size a) ∧
  (∀ k0_t62 : Fin (k0_t62_loop v228 v257).trips, ∀ (hinb : ∀ a, (k0_off2856 v1 k0_t51 v228 v257 k0_t62) a + S1x1x1x16x128.size a ≤ S2x2x108x128x128.size a), (Rect.unit (s := S2x2x108x128x128) (k0_off2856 v1 k0_t51 v228 v257 k0_t62) S1x1x1x16x128.size hinb).PackedRows (EltTy.packing .bf16)) ∧
  (∀ k0_t62 : Fin (k0_t62_loop v228 v257).trips, ∀ a, (k0_off2858 v1 k0_t51 v228 v257 k0_t62) a + S1x1x1x16x128.size a ≤ S2x2x108x128x128.size a) ∧
  (∀ k0_t62 : Fin (k0_t62_loop v228 v257).trips, ∀ (hinb : ∀ a, (k0_off2858 v1 k0_t51 v228 v257 k0_t62) a + S1x1x1x16x128.size a ≤ S2x2x108x128x128.size a), (Rect.unit (s := S2x2x108x128x128) (k0_off2858 v1 k0_t51 v228 v257 k0_t62) S1x1x1x16x128.size hinb).PackedRows (EltTy.packing .bf16)) ∧
  (∀ k0_t62 : Fin (k0_t62_loop v228 v257).trips, ∀ a, (k0_off2859 v1 k0_t51 v228 v257 k0_t62) a + S1x1x1x32x128.size a ≤ S2x2x8x1728x128.size a)
def k0_chk35_35 (v1 : BitVec 32) (k0_t51 : Fin (k0_t51_loop v1).trips) (v228 : BitVec 32) (v257 : BitVec 32) : Prop :=
  (∀ k0_t62 : Fin (k0_t62_loop v228 v257).trips, ∀ a, (k0_off2861 v1 k0_t51 v228 v257 k0_t62) a + S1x1x1x16x128.size a ≤ S2x2x108x128x128.size a) ∧
  (∀ k0_t62 : Fin (k0_t62_loop v228 v257).trips, ∀ (hinb : ∀ a, (k0_off2861 v1 k0_t51 v228 v257 k0_t62) a + S1x1x1x16x128.size a ≤ S2x2x108x128x128.size a), (Rect.unit (s := S2x2x108x128x128) (k0_off2861 v1 k0_t51 v228 v257 k0_t62) S1x1x1x16x128.size hinb).PackedRows (EltTy.packing .bf16)) ∧
  (∀ k0_t62 : Fin (k0_t62_loop v228 v257).trips, ∀ a, (k0_off2863 v1 k0_t51 v228 v257 k0_t62) a + S1x1x1x16x128.size a ≤ S2x2x108x128x128.size a) ∧
  (∀ k0_t62 : Fin (k0_t62_loop v228 v257).trips, ∀ (hinb : ∀ a, (k0_off2863 v1 k0_t51 v228 v257 k0_t62) a + S1x1x1x16x128.size a ≤ S2x2x108x128x128.size a), (Rect.unit (s := S2x2x108x128x128) (k0_off2863 v1 k0_t51 v228 v257 k0_t62) S1x1x1x16x128.size hinb).PackedRows (EltTy.packing .bf16)) ∧
  (∀ k0_t62 : Fin (k0_t62_loop v228 v257).trips, ∀ a, (k0_off2864 v1 k0_t51 v228 v257 k0_t62) a + S1x1x1x32x128.size a ≤ S2x2x8x1728x128.size a) ∧
  (∀ k0_t62 : Fin (k0_t62_loop v228 v257).trips, ∀ a, (k0_off2866 v1 k0_t51 v228 v257 k0_t62) a + S1x1x1x16x128.size a ≤ S2x2x108x128x128.size a) ∧
  (∀ k0_t62 : Fin (k0_t62_loop v228 v257).trips, ∀ (hinb : ∀ a, (k0_off2866 v1 k0_t51 v228 v257 k0_t62) a + S1x1x1x16x128.size a ≤ S2x2x108x128x128.size a), (Rect.unit (s := S2x2x108x128x128) (k0_off2866 v1 k0_t51 v228 v257 k0_t62) S1x1x1x16x128.size hinb).PackedRows (EltTy.packing .bf16)) ∧
  (∀ k0_t62 : Fin (k0_t62_loop v228 v257).trips, ∀ a, (k0_off2868 v1 k0_t51 v228 v257 k0_t62) a + S1x1x1x16x128.size a ≤ S2x2x108x128x128.size a) ∧
  (∀ k0_t62 : Fin (k0_t62_loop v228 v257).trips, ∀ (hinb : ∀ a, (k0_off2868 v1 k0_t51 v228 v257 k0_t62) a + S1x1x1x16x128.size a ≤ S2x2x108x128x128.size a), (Rect.unit (s := S2x2x108x128x128) (k0_off2868 v1 k0_t51 v228 v257 k0_t62) S1x1x1x16x128.size hinb).PackedRows (EltTy.packing .bf16)) ∧
  (∀ k0_t62 : Fin (k0_t62_loop v228 v257).trips, ∀ a, (k0_off2869 v1 k0_t51 v228 v257 k0_t62) a + S1x1x1x32x128.size a ≤ S2x2x8x1728x128.size a) ∧
  (∀ k0_t62 : Fin (k0_t62_loop v228 v257).trips, ∀ a, (k0_off2871 v1 k0_t51 v228 v257 k0_t62) a + S1x1x1x16x128.size a ≤ S2x2x108x128x128.size a) ∧
  (∀ k0_t62 : Fin (k0_t62_loop v228 v257).trips, ∀ (hinb : ∀ a, (k0_off2871 v1 k0_t51 v228 v257 k0_t62) a + S1x1x1x16x128.size a ≤ S2x2x108x128x128.size a), (Rect.unit (s := S2x2x108x128x128) (k0_off2871 v1 k0_t51 v228 v257 k0_t62) S1x1x1x16x128.size hinb).PackedRows (EltTy.packing .bf16)) ∧
  (∀ k0_t62 : Fin (k0_t62_loop v228 v257).trips, ∀ a, (k0_off2873 v1 k0_t51 v228 v257 k0_t62) a + S1x1x1x16x128.size a ≤ S2x2x108x128x128.size a) ∧
  (∀ k0_t62 : Fin (k0_t62_loop v228 v257).trips, ∀ (hinb : ∀ a, (k0_off2873 v1 k0_t51 v228 v257 k0_t62) a + S1x1x1x16x128.size a ≤ S2x2x108x128x128.size a), (Rect.unit (s := S2x2x108x128x128) (k0_off2873 v1 k0_t51 v228 v257 k0_t62) S1x1x1x16x128.size hinb).PackedRows (EltTy.packing .bf16)) ∧
  (∀ k0_t62 : Fin (k0_t62_loop v228 v257).trips, ∀ a, (k0_off2874 v1 k0_t51 v228 v257 k0_t62) a + S1x1x1x32x128.size a ≤ S2x2x8x1728x128.size a) ∧
  (∀ k0_t62 : Fin (k0_t62_loop v228 v257).trips, ∀ a, (k0_off2876 v1 k0_t51 v228 v257 k0_t62) a + S1x1x1x16x128.size a ≤ S2x2x108x128x128.size a) ∧
  (∀ k0_t62 : Fin (k0_t62_loop v228 v257).trips, ∀ (hinb : ∀ a, (k0_off2876 v1 k0_t51 v228 v257 k0_t62) a + S1x1x1x16x128.size a ≤ S2x2x108x128x128.size a), (Rect.unit (s := S2x2x108x128x128) (k0_off2876 v1 k0_t51 v228 v257 k0_t62) S1x1x1x16x128.size hinb).PackedRows (EltTy.packing .bf16)) ∧
  (∀ k0_t62 : Fin (k0_t62_loop v228 v257).trips, ∀ a, (k0_off2878 v1 k0_t51 v228 v257 k0_t62) a + S1x1x1x16x128.size a ≤ S2x2x108x128x128.size a) ∧
  (∀ k0_t62 : Fin (k0_t62_loop v228 v257).trips, ∀ (hinb : ∀ a, (k0_off2878 v1 k0_t51 v228 v257 k0_t62) a + S1x1x1x16x128.size a ≤ S2x2x108x128x128.size a), (Rect.unit (s := S2x2x108x128x128) (k0_off2878 v1 k0_t51 v228 v257 k0_t62) S1x1x1x16x128.size hinb).PackedRows (EltTy.packing .bf16)) ∧
  (∀ k0_t62 : Fin (k0_t62_loop v228 v257).trips, ∀ a, (k0_off2879 v1 k0_t51 v228 v257 k0_t62) a + S1x1x1x32x128.size a ≤ S2x2x8x1728x128.size a) ∧
  (∀ k0_t62 : Fin (k0_t62_loop v228 v257).trips, ∀ a, (k0_off2881 v1 k0_t51 v228 v257 k0_t62) a + S1x1x1x16x128.size a ≤ S2x2x108x128x128.size a) ∧
  (∀ k0_t62 : Fin (k0_t62_loop v228 v257).trips, ∀ (hinb : ∀ a, (k0_off2881 v1 k0_t51 v228 v257 k0_t62) a + S1x1x1x16x128.size a ≤ S2x2x108x128x128.size a), (Rect.unit (s := S2x2x108x128x128) (k0_off2881 v1 k0_t51 v228 v257 k0_t62) S1x1x1x16x128.size hinb).PackedRows (EltTy.packing .bf16)) ∧
  (∀ k0_t62 : Fin (k0_t62_loop v228 v257).trips, ∀ a, (k0_off2883 v1 k0_t51 v228 v257 k0_t62) a + S1x1x1x16x128.size a ≤ S2x2x108x128x128.size a) ∧
  (∀ k0_t62 : Fin (k0_t62_loop v228 v257).trips, ∀ (hinb : ∀ a, (k0_off2883 v1 k0_t51 v228 v257 k0_t62) a + S1x1x1x16x128.size a ≤ S2x2x108x128x128.size a), (Rect.unit (s := S2x2x108x128x128) (k0_off2883 v1 k0_t51 v228 v257 k0_t62) S1x1x1x16x128.size hinb).PackedRows (EltTy.packing .bf16)) ∧
  (∀ k0_t62 : Fin (k0_t62_loop v228 v257).trips, ∀ a, (k0_off2884 v1 k0_t51 v228 v257 k0_t62) a + S1x1x1x32x128.size a ≤ S2x2x8x1728x128.size a) ∧
  (∀ k0_t62 : Fin (k0_t62_loop v228 v257).trips, ∀ a, (k0_off2886 v1 k0_t51 v228 v257 k0_t62) a + S1x1x1x16x128.size a ≤ S2x2x108x128x128.size a) ∧
  (∀ k0_t62 : Fin (k0_t62_loop v228 v257).trips, ∀ (hinb : ∀ a, (k0_off2886 v1 k0_t51 v228 v257 k0_t62) a + S1x1x1x16x128.size a ≤ S2x2x108x128x128.size a), (Rect.unit (s := S2x2x108x128x128) (k0_off2886 v1 k0_t51 v228 v257 k0_t62) S1x1x1x16x128.size hinb).PackedRows (EltTy.packing .bf16)) ∧
  (∀ k0_t62 : Fin (k0_t62_loop v228 v257).trips, ∀ a, (k0_off2888 v1 k0_t51 v228 v257 k0_t62) a + S1x1x1x16x128.size a ≤ S2x2x108x128x128.size a) ∧
  (∀ k0_t62 : Fin (k0_t62_loop v228 v257).trips, ∀ (hinb : ∀ a, (k0_off2888 v1 k0_t51 v228 v257 k0_t62) a + S1x1x1x16x128.size a ≤ S2x2x108x128x128.size a), (Rect.unit (s := S2x2x108x128x128) (k0_off2888 v1 k0_t51 v228 v257 k0_t62) S1x1x1x16x128.size hinb).PackedRows (EltTy.packing .bf16)) ∧
  (∀ k0_t62 : Fin (k0_t62_loop v228 v257).trips, ∀ a, (k0_off2889 v1 k0_t51 v228 v257 k0_t62) a + S1x1x1x32x128.size a ≤ S2x2x8x1728x128.size a) ∧
  (∀ k0_t62 : Fin (k0_t62_loop v228 v257).trips, ∀ a, (k0_off2891 v1 k0_t51 v228 v257 k0_t62) a + S1x1x1x16x128.size a ≤ S2x2x108x128x128.size a) ∧
  (∀ k0_t62 : Fin (k0_t62_loop v228 v257).trips, ∀ (hinb : ∀ a, (k0_off2891 v1 k0_t51 v228 v257 k0_t62) a + S1x1x1x16x128.size a ≤ S2x2x108x128x128.size a), (Rect.unit (s := S2x2x108x128x128) (k0_off2891 v1 k0_t51 v228 v257 k0_t62) S1x1x1x16x128.size hinb).PackedRows (EltTy.packing .bf16))
def k0_chk35_36 (v1 : BitVec 32) (k0_t51 : Fin (k0_t51_loop v1).trips) (v228 : BitVec 32) (v257 : BitVec 32) : Prop :=
  (∀ k0_t62 : Fin (k0_t62_loop v228 v257).trips, ∀ a, (k0_off2893 v1 k0_t51 v228 v257 k0_t62) a + S1x1x1x16x128.size a ≤ S2x2x108x128x128.size a) ∧
  (∀ k0_t62 : Fin (k0_t62_loop v228 v257).trips, ∀ (hinb : ∀ a, (k0_off2893 v1 k0_t51 v228 v257 k0_t62) a + S1x1x1x16x128.size a ≤ S2x2x108x128x128.size a), (Rect.unit (s := S2x2x108x128x128) (k0_off2893 v1 k0_t51 v228 v257 k0_t62) S1x1x1x16x128.size hinb).PackedRows (EltTy.packing .bf16)) ∧
  (∀ k0_t62 : Fin (k0_t62_loop v228 v257).trips, ∀ a, (k0_off2894 v1 k0_t51 v228 v257 k0_t62) a + S1x1x1x32x128.size a ≤ S2x2x8x1728x128.size a) ∧
  (∀ k0_t62 : Fin (k0_t62_loop v228 v257).trips, ∀ a, (k0_off2896 v1 k0_t51 v228 v257 k0_t62) a + S1x1x1x16x128.size a ≤ S2x2x108x128x128.size a) ∧
  (∀ k0_t62 : Fin (k0_t62_loop v228 v257).trips, ∀ (hinb : ∀ a, (k0_off2896 v1 k0_t51 v228 v257 k0_t62) a + S1x1x1x16x128.size a ≤ S2x2x108x128x128.size a), (Rect.unit (s := S2x2x108x128x128) (k0_off2896 v1 k0_t51 v228 v257 k0_t62) S1x1x1x16x128.size hinb).PackedRows (EltTy.packing .bf16)) ∧
  (∀ k0_t62 : Fin (k0_t62_loop v228 v257).trips, ∀ a, (k0_off2898 v1 k0_t51 v228 v257 k0_t62) a + S1x1x1x16x128.size a ≤ S2x2x108x128x128.size a) ∧
  (∀ k0_t62 : Fin (k0_t62_loop v228 v257).trips, ∀ (hinb : ∀ a, (k0_off2898 v1 k0_t51 v228 v257 k0_t62) a + S1x1x1x16x128.size a ≤ S2x2x108x128x128.size a), (Rect.unit (s := S2x2x108x128x128) (k0_off2898 v1 k0_t51 v228 v257 k0_t62) S1x1x1x16x128.size hinb).PackedRows (EltTy.packing .bf16)) ∧
  (∀ k0_t62 : Fin (k0_t62_loop v228 v257).trips, ∀ a, (k0_off2899 v1 k0_t51 v228 v257 k0_t62) a + S1x1x1x32x128.size a ≤ S2x2x8x1728x128.size a) ∧
  (∀ k0_t62 : Fin (k0_t62_loop v228 v257).trips, ∀ a, (k0_off2901 v1 k0_t51 v228 v257 k0_t62) a + S1x1x1x16x128.size a ≤ S2x2x108x128x128.size a) ∧
  (∀ k0_t62 : Fin (k0_t62_loop v228 v257).trips, ∀ (hinb : ∀ a, (k0_off2901 v1 k0_t51 v228 v257 k0_t62) a + S1x1x1x16x128.size a ≤ S2x2x108x128x128.size a), (Rect.unit (s := S2x2x108x128x128) (k0_off2901 v1 k0_t51 v228 v257 k0_t62) S1x1x1x16x128.size hinb).PackedRows (EltTy.packing .bf16)) ∧
  (∀ k0_t62 : Fin (k0_t62_loop v228 v257).trips, ∀ a, (k0_off2903 v1 k0_t51 v228 v257 k0_t62) a + S1x1x1x16x128.size a ≤ S2x2x108x128x128.size a) ∧
  (∀ k0_t62 : Fin (k0_t62_loop v228 v257).trips, ∀ (hinb : ∀ a, (k0_off2903 v1 k0_t51 v228 v257 k0_t62) a + S1x1x1x16x128.size a ≤ S2x2x108x128x128.size a), (Rect.unit (s := S2x2x108x128x128) (k0_off2903 v1 k0_t51 v228 v257 k0_t62) S1x1x1x16x128.size hinb).PackedRows (EltTy.packing .bf16)) ∧
  (∀ k0_t62 : Fin (k0_t62_loop v228 v257).trips, ∀ a, (k0_off2904 v1 k0_t51 v228 v257 k0_t62) a + S1x1x1x32x128.size a ≤ S2x2x8x1728x128.size a) ∧
  (∀ k0_t62 : Fin (k0_t62_loop v228 v257).trips, ∀ a, (k0_off2906 v1 k0_t51 v228 v257 k0_t62) a + S1x1x1x16x128.size a ≤ S2x2x108x128x128.size a) ∧
  (∀ k0_t62 : Fin (k0_t62_loop v228 v257).trips, ∀ (hinb : ∀ a, (k0_off2906 v1 k0_t51 v228 v257 k0_t62) a + S1x1x1x16x128.size a ≤ S2x2x108x128x128.size a), (Rect.unit (s := S2x2x108x128x128) (k0_off2906 v1 k0_t51 v228 v257 k0_t62) S1x1x1x16x128.size hinb).PackedRows (EltTy.packing .bf16)) ∧
  (∀ k0_t62 : Fin (k0_t62_loop v228 v257).trips, ∀ a, (k0_off2908 v1 k0_t51 v228 v257 k0_t62) a + S1x1x1x16x128.size a ≤ S2x2x108x128x128.size a) ∧
  (∀ k0_t62 : Fin (k0_t62_loop v228 v257).trips, ∀ (hinb : ∀ a, (k0_off2908 v1 k0_t51 v228 v257 k0_t62) a + S1x1x1x16x128.size a ≤ S2x2x108x128x128.size a), (Rect.unit (s := S2x2x108x128x128) (k0_off2908 v1 k0_t51 v228 v257 k0_t62) S1x1x1x16x128.size hinb).PackedRows (EltTy.packing .bf16)) ∧
  (∀ k0_t62 : Fin (k0_t62_loop v228 v257).trips, ∀ a, (k0_off2909 v1 k0_t51 v228 v257 k0_t62) a + S1x1x1x32x128.size a ≤ S2x2x8x1728x128.size a) ∧
  (∀ k0_t62 : Fin (k0_t62_loop v228 v257).trips, ∀ a, (k0_off2911 v1 k0_t51 v228 v257 k0_t62) a + S1x1x1x16x128.size a ≤ S2x2x108x128x128.size a) ∧
  (∀ k0_t62 : Fin (k0_t62_loop v228 v257).trips, ∀ (hinb : ∀ a, (k0_off2911 v1 k0_t51 v228 v257 k0_t62) a + S1x1x1x16x128.size a ≤ S2x2x108x128x128.size a), (Rect.unit (s := S2x2x108x128x128) (k0_off2911 v1 k0_t51 v228 v257 k0_t62) S1x1x1x16x128.size hinb).PackedRows (EltTy.packing .bf16)) ∧
  (∀ k0_t62 : Fin (k0_t62_loop v228 v257).trips, ∀ a, (k0_off2913 v1 k0_t51 v228 v257 k0_t62) a + S1x1x1x16x128.size a ≤ S2x2x108x128x128.size a) ∧
  (∀ k0_t62 : Fin (k0_t62_loop v228 v257).trips, ∀ (hinb : ∀ a, (k0_off2913 v1 k0_t51 v228 v257 k0_t62) a + S1x1x1x16x128.size a ≤ S2x2x108x128x128.size a), (Rect.unit (s := S2x2x108x128x128) (k0_off2913 v1 k0_t51 v228 v257 k0_t62) S1x1x1x16x128.size hinb).PackedRows (EltTy.packing .bf16)) ∧
  (∀ k0_t62 : Fin (k0_t62_loop v228 v257).trips, ∀ a, (k0_off2914 v1 k0_t51 v228 v257 k0_t62) a + S1x1x1x32x128.size a ≤ S2x2x8x1728x128.size a) ∧
  (∀ k0_t62 : Fin (k0_t62_loop v228 v257).trips, ∀ a, (k0_off2916 v1 k0_t51 v228 v257 k0_t62) a + S1x1x1x16x128.size a ≤ S2x2x108x128x128.size a) ∧
  (∀ k0_t62 : Fin (k0_t62_loop v228 v257).trips, ∀ (hinb : ∀ a, (k0_off2916 v1 k0_t51 v228 v257 k0_t62) a + S1x1x1x16x128.size a ≤ S2x2x108x128x128.size a), (Rect.unit (s := S2x2x108x128x128) (k0_off2916 v1 k0_t51 v228 v257 k0_t62) S1x1x1x16x128.size hinb).PackedRows (EltTy.packing .bf16)) ∧
  (∀ k0_t62 : Fin (k0_t62_loop v228 v257).trips, ∀ a, (k0_off2918 v1 k0_t51 v228 v257 k0_t62) a + S1x1x1x16x128.size a ≤ S2x2x108x128x128.size a) ∧
  (∀ k0_t62 : Fin (k0_t62_loop v228 v257).trips, ∀ (hinb : ∀ a, (k0_off2918 v1 k0_t51 v228 v257 k0_t62) a + S1x1x1x16x128.size a ≤ S2x2x108x128x128.size a), (Rect.unit (s := S2x2x108x128x128) (k0_off2918 v1 k0_t51 v228 v257 k0_t62) S1x1x1x16x128.size hinb).PackedRows (EltTy.packing .bf16)) ∧
  (∀ k0_t62 : Fin (k0_t62_loop v228 v257).trips, ∀ a, (k0_off2919 v1 k0_t51 v228 v257 k0_t62) a + S1x1x1x32x128.size a ≤ S2x2x8x1728x128.size a) ∧
  (∀ k0_t62 : Fin (k0_t62_loop v228 v257).trips, ∀ a, (k0_off2921 v1 k0_t51 v228 v257 k0_t62) a + S1x1x1x16x128.size a ≤ S2x2x108x128x128.size a) ∧
  (∀ k0_t62 : Fin (k0_t62_loop v228 v257).trips, ∀ (hinb : ∀ a, (k0_off2921 v1 k0_t51 v228 v257 k0_t62) a + S1x1x1x16x128.size a ≤ S2x2x108x128x128.size a), (Rect.unit (s := S2x2x108x128x128) (k0_off2921 v1 k0_t51 v228 v257 k0_t62) S1x1x1x16x128.size hinb).PackedRows (EltTy.packing .bf16)) ∧
  (∀ k0_t62 : Fin (k0_t62_loop v228 v257).trips, ∀ a, (k0_off2923 v1 k0_t51 v228 v257 k0_t62) a + S1x1x1x16x128.size a ≤ S2x2x108x128x128.size a) ∧
  (∀ k0_t62 : Fin (k0_t62_loop v228 v257).trips, ∀ (hinb : ∀ a, (k0_off2923 v1 k0_t51 v228 v257 k0_t62) a + S1x1x1x16x128.size a ≤ S2x2x108x128x128.size a), (Rect.unit (s := S2x2x108x128x128) (k0_off2923 v1 k0_t51 v228 v257 k0_t62) S1x1x1x16x128.size hinb).PackedRows (EltTy.packing .bf16))
def k0_chk35_37 (v1 : BitVec 32) (k0_t51 : Fin (k0_t51_loop v1).trips) (v228 : BitVec 32) (v257 : BitVec 32) : Prop :=
  (∀ k0_t62 : Fin (k0_t62_loop v228 v257).trips, ∀ a, (k0_off2924 v1 k0_t51 v228 v257 k0_t62) a + S1x1x1x32x128.size a ≤ S2x2x8x1728x128.size a) ∧
  (∀ k0_t62 : Fin (k0_t62_loop v228 v257).trips, ∀ a, (k0_off2926 v1 k0_t51 v228 v257 k0_t62) a + S1x1x1x16x128.size a ≤ S2x2x108x128x128.size a) ∧
  (∀ k0_t62 : Fin (k0_t62_loop v228 v257).trips, ∀ (hinb : ∀ a, (k0_off2926 v1 k0_t51 v228 v257 k0_t62) a + S1x1x1x16x128.size a ≤ S2x2x108x128x128.size a), (Rect.unit (s := S2x2x108x128x128) (k0_off2926 v1 k0_t51 v228 v257 k0_t62) S1x1x1x16x128.size hinb).PackedRows (EltTy.packing .bf16)) ∧
  (∀ k0_t62 : Fin (k0_t62_loop v228 v257).trips, ∀ a, (k0_off2928 v1 k0_t51 v228 v257 k0_t62) a + S1x1x1x16x128.size a ≤ S2x2x108x128x128.size a) ∧
  (∀ k0_t62 : Fin (k0_t62_loop v228 v257).trips, ∀ (hinb : ∀ a, (k0_off2928 v1 k0_t51 v228 v257 k0_t62) a + S1x1x1x16x128.size a ≤ S2x2x108x128x128.size a), (Rect.unit (s := S2x2x108x128x128) (k0_off2928 v1 k0_t51 v228 v257 k0_t62) S1x1x1x16x128.size hinb).PackedRows (EltTy.packing .bf16)) ∧
  (∀ k0_t62 : Fin (k0_t62_loop v228 v257).trips, ∀ a, (k0_off2929 v1 k0_t51 v228 v257 k0_t62) a + S1x1x1x32x128.size a ≤ S2x2x8x1728x128.size a) ∧
  (∀ k0_t62 : Fin (k0_t62_loop v228 v257).trips, ∀ a, (k0_off2931 v1 k0_t51 v228 v257 k0_t62) a + S1x1x1x16x128.size a ≤ S2x2x108x128x128.size a) ∧
  (∀ k0_t62 : Fin (k0_t62_loop v228 v257).trips, ∀ (hinb : ∀ a, (k0_off2931 v1 k0_t51 v228 v257 k0_t62) a + S1x1x1x16x128.size a ≤ S2x2x108x128x128.size a), (Rect.unit (s := S2x2x108x128x128) (k0_off2931 v1 k0_t51 v228 v257 k0_t62) S1x1x1x16x128.size hinb).PackedRows (EltTy.packing .bf16)) ∧
  (∀ k0_t62 : Fin (k0_t62_loop v228 v257).trips, ∀ a, (k0_off2933 v1 k0_t51 v228 v257 k0_t62) a + S1x1x1x16x128.size a ≤ S2x2x108x128x128.size a) ∧
  (∀ k0_t62 : Fin (k0_t62_loop v228 v257).trips, ∀ (hinb : ∀ a, (k0_off2933 v1 k0_t51 v228 v257 k0_t62) a + S1x1x1x16x128.size a ≤ S2x2x108x128x128.size a), (Rect.unit (s := S2x2x108x128x128) (k0_off2933 v1 k0_t51 v228 v257 k0_t62) S1x1x1x16x128.size hinb).PackedRows (EltTy.packing .bf16)) ∧
  (∀ k0_t62 : Fin (k0_t62_loop v228 v257).trips, ∀ a, (k0_off2934 v1 k0_t51 v228 v257 k0_t62) a + S1x1x1x32x128.size a ≤ S2x2x8x1728x128.size a) ∧
  (∀ k0_t62 : Fin (k0_t62_loop v228 v257).trips, ∀ a, (k0_off2936 v1 k0_t51 v228 v257 k0_t62) a + S1x1x1x16x128.size a ≤ S2x2x108x128x128.size a) ∧
  (∀ k0_t62 : Fin (k0_t62_loop v228 v257).trips, ∀ (hinb : ∀ a, (k0_off2936 v1 k0_t51 v228 v257 k0_t62) a + S1x1x1x16x128.size a ≤ S2x2x108x128x128.size a), (Rect.unit (s := S2x2x108x128x128) (k0_off2936 v1 k0_t51 v228 v257 k0_t62) S1x1x1x16x128.size hinb).PackedRows (EltTy.packing .bf16)) ∧
  (∀ k0_t62 : Fin (k0_t62_loop v228 v257).trips, ∀ a, (k0_off2938 v1 k0_t51 v228 v257 k0_t62) a + S1x1x1x16x128.size a ≤ S2x2x108x128x128.size a) ∧
  (∀ k0_t62 : Fin (k0_t62_loop v228 v257).trips, ∀ (hinb : ∀ a, (k0_off2938 v1 k0_t51 v228 v257 k0_t62) a + S1x1x1x16x128.size a ≤ S2x2x108x128x128.size a), (Rect.unit (s := S2x2x108x128x128) (k0_off2938 v1 k0_t51 v228 v257 k0_t62) S1x1x1x16x128.size hinb).PackedRows (EltTy.packing .bf16)) ∧
  (∀ k0_t62 : Fin (k0_t62_loop v228 v257).trips, ∀ a, (k0_off2939 v1 k0_t51 v228 v257 k0_t62) a + S1x1x1x32x128.size a ≤ S2x2x8x1728x128.size a) ∧
  (∀ k0_t62 : Fin (k0_t62_loop v228 v257).trips, ∀ a, (k0_off2941 v1 k0_t51 v228 v257 k0_t62) a + S1x1x1x16x128.size a ≤ S2x2x108x128x128.size a) ∧
  (∀ k0_t62 : Fin (k0_t62_loop v228 v257).trips, ∀ (hinb : ∀ a, (k0_off2941 v1 k0_t51 v228 v257 k0_t62) a + S1x1x1x16x128.size a ≤ S2x2x108x128x128.size a), (Rect.unit (s := S2x2x108x128x128) (k0_off2941 v1 k0_t51 v228 v257 k0_t62) S1x1x1x16x128.size hinb).PackedRows (EltTy.packing .bf16)) ∧
  (∀ k0_t62 : Fin (k0_t62_loop v228 v257).trips, ∀ a, (k0_off2943 v1 k0_t51 v228 v257 k0_t62) a + S1x1x1x16x128.size a ≤ S2x2x108x128x128.size a) ∧
  (∀ k0_t62 : Fin (k0_t62_loop v228 v257).trips, ∀ (hinb : ∀ a, (k0_off2943 v1 k0_t51 v228 v257 k0_t62) a + S1x1x1x16x128.size a ≤ S2x2x108x128x128.size a), (Rect.unit (s := S2x2x108x128x128) (k0_off2943 v1 k0_t51 v228 v257 k0_t62) S1x1x1x16x128.size hinb).PackedRows (EltTy.packing .bf16)) ∧
  (∀ k0_t62 : Fin (k0_t62_loop v228 v257).trips, ∀ a, (k0_off2944 v1 k0_t51 v228 v257 k0_t62) a + S1x1x1x32x128.size a ≤ S2x2x8x1728x128.size a) ∧
  (∀ k0_t62 : Fin (k0_t62_loop v228 v257).trips, ∀ a, (k0_off2946 v1 k0_t51 v228 v257 k0_t62) a + S1x1x1x16x128.size a ≤ S2x2x108x128x128.size a) ∧
  (∀ k0_t62 : Fin (k0_t62_loop v228 v257).trips, ∀ (hinb : ∀ a, (k0_off2946 v1 k0_t51 v228 v257 k0_t62) a + S1x1x1x16x128.size a ≤ S2x2x108x128x128.size a), (Rect.unit (s := S2x2x108x128x128) (k0_off2946 v1 k0_t51 v228 v257 k0_t62) S1x1x1x16x128.size hinb).PackedRows (EltTy.packing .bf16)) ∧
  (∀ k0_t62 : Fin (k0_t62_loop v228 v257).trips, ∀ a, (k0_off2948 v1 k0_t51 v228 v257 k0_t62) a + S1x1x1x16x128.size a ≤ S2x2x108x128x128.size a) ∧
  (∀ k0_t62 : Fin (k0_t62_loop v228 v257).trips, ∀ (hinb : ∀ a, (k0_off2948 v1 k0_t51 v228 v257 k0_t62) a + S1x1x1x16x128.size a ≤ S2x2x108x128x128.size a), (Rect.unit (s := S2x2x108x128x128) (k0_off2948 v1 k0_t51 v228 v257 k0_t62) S1x1x1x16x128.size hinb).PackedRows (EltTy.packing .bf16)) ∧
  (∀ k0_t62 : Fin (k0_t62_loop v228 v257).trips, ∀ a, (k0_off2949 v1 k0_t51 v228 v257 k0_t62) a + S1x1x1x32x128.size a ≤ S2x2x8x1728x128.size a) ∧
  (∀ k0_t62 : Fin (k0_t62_loop v228 v257).trips, ∀ a, (k0_off2951 v1 k0_t51 v228 v257 k0_t62) a + S1x1x1x16x128.size a ≤ S2x2x108x128x128.size a) ∧
  (∀ k0_t62 : Fin (k0_t62_loop v228 v257).trips, ∀ (hinb : ∀ a, (k0_off2951 v1 k0_t51 v228 v257 k0_t62) a + S1x1x1x16x128.size a ≤ S2x2x108x128x128.size a), (Rect.unit (s := S2x2x108x128x128) (k0_off2951 v1 k0_t51 v228 v257 k0_t62) S1x1x1x16x128.size hinb).PackedRows (EltTy.packing .bf16)) ∧
  (∀ k0_t62 : Fin (k0_t62_loop v228 v257).trips, ∀ a, (k0_off2953 v1 k0_t51 v228 v257 k0_t62) a + S1x1x1x16x128.size a ≤ S2x2x108x128x128.size a) ∧
  (∀ k0_t62 : Fin (k0_t62_loop v228 v257).trips, ∀ (hinb : ∀ a, (k0_off2953 v1 k0_t51 v228 v257 k0_t62) a + S1x1x1x16x128.size a ≤ S2x2x108x128x128.size a), (Rect.unit (s := S2x2x108x128x128) (k0_off2953 v1 k0_t51 v228 v257 k0_t62) S1x1x1x16x128.size hinb).PackedRows (EltTy.packing .bf16)) ∧
  (∀ k0_t62 : Fin (k0_t62_loop v228 v257).trips, ∀ a, (k0_off2954 v1 k0_t51 v228 v257 k0_t62) a + S1x1x1x32x128.size a ≤ S2x2x8x1728x128.size a) ∧
  (∀ k0_t62 : Fin (k0_t62_loop v228 v257).trips, ∀ a, (k0_off2956 v1 k0_t51 v228 v257 k0_t62) a + S1x1x1x16x128.size a ≤ S2x2x108x128x128.size a)
def k0_chk35_38 (v1 : BitVec 32) (k0_t51 : Fin (k0_t51_loop v1).trips) (v228 : BitVec 32) (v257 : BitVec 32) : Prop :=
  (∀ k0_t62 : Fin (k0_t62_loop v228 v257).trips, ∀ (hinb : ∀ a, (k0_off2956 v1 k0_t51 v228 v257 k0_t62) a + S1x1x1x16x128.size a ≤ S2x2x108x128x128.size a), (Rect.unit (s := S2x2x108x128x128) (k0_off2956 v1 k0_t51 v228 v257 k0_t62) S1x1x1x16x128.size hinb).PackedRows (EltTy.packing .bf16)) ∧
  (∀ k0_t62 : Fin (k0_t62_loop v228 v257).trips, ∀ a, (k0_off2958 v1 k0_t51 v228 v257 k0_t62) a + S1x1x1x16x128.size a ≤ S2x2x108x128x128.size a) ∧
  (∀ k0_t62 : Fin (k0_t62_loop v228 v257).trips, ∀ (hinb : ∀ a, (k0_off2958 v1 k0_t51 v228 v257 k0_t62) a + S1x1x1x16x128.size a ≤ S2x2x108x128x128.size a), (Rect.unit (s := S2x2x108x128x128) (k0_off2958 v1 k0_t51 v228 v257 k0_t62) S1x1x1x16x128.size hinb).PackedRows (EltTy.packing .bf16)) ∧
  (∀ k0_t62 : Fin (k0_t62_loop v228 v257).trips, ∀ a, (k0_off2959 v1 k0_t51 v228 v257 k0_t62) a + S1x1x1x32x128.size a ≤ S2x2x8x1728x128.size a) ∧
  (∀ k0_t62 : Fin (k0_t62_loop v228 v257).trips, ∀ a, (k0_off2961 v1 k0_t51 v228 v257 k0_t62) a + S1x1x1x16x128.size a ≤ S2x2x108x128x128.size a) ∧
  (∀ k0_t62 : Fin (k0_t62_loop v228 v257).trips, ∀ (hinb : ∀ a, (k0_off2961 v1 k0_t51 v228 v257 k0_t62) a + S1x1x1x16x128.size a ≤ S2x2x108x128x128.size a), (Rect.unit (s := S2x2x108x128x128) (k0_off2961 v1 k0_t51 v228 v257 k0_t62) S1x1x1x16x128.size hinb).PackedRows (EltTy.packing .bf16)) ∧
  (∀ k0_t62 : Fin (k0_t62_loop v228 v257).trips, ∀ a, (k0_off2963 v1 k0_t51 v228 v257 k0_t62) a + S1x1x1x16x128.size a ≤ S2x2x108x128x128.size a) ∧
  (∀ k0_t62 : Fin (k0_t62_loop v228 v257).trips, ∀ (hinb : ∀ a, (k0_off2963 v1 k0_t51 v228 v257 k0_t62) a + S1x1x1x16x128.size a ≤ S2x2x108x128x128.size a), (Rect.unit (s := S2x2x108x128x128) (k0_off2963 v1 k0_t51 v228 v257 k0_t62) S1x1x1x16x128.size hinb).PackedRows (EltTy.packing .bf16)) ∧
  (∀ k0_t62 : Fin (k0_t62_loop v228 v257).trips, ∀ a, (k0_off2964 v1 k0_t51 v228 v257 k0_t62) a + S1x1x1x32x128.size a ≤ S2x2x8x1728x128.size a) ∧
  (∀ k0_t62 : Fin (k0_t62_loop v228 v257).trips, ∀ a, (k0_off2966 v1 k0_t51 v228 v257 k0_t62) a + S1x1x1x16x128.size a ≤ S2x2x108x128x128.size a) ∧
  (∀ k0_t62 : Fin (k0_t62_loop v228 v257).trips, ∀ (hinb : ∀ a, (k0_off2966 v1 k0_t51 v228 v257 k0_t62) a + S1x1x1x16x128.size a ≤ S2x2x108x128x128.size a), (Rect.unit (s := S2x2x108x128x128) (k0_off2966 v1 k0_t51 v228 v257 k0_t62) S1x1x1x16x128.size hinb).PackedRows (EltTy.packing .bf16)) ∧
  (∀ k0_t62 : Fin (k0_t62_loop v228 v257).trips, ∀ a, (k0_off2968 v1 k0_t51 v228 v257 k0_t62) a + S1x1x1x16x128.size a ≤ S2x2x108x128x128.size a) ∧
  (∀ k0_t62 : Fin (k0_t62_loop v228 v257).trips, ∀ (hinb : ∀ a, (k0_off2968 v1 k0_t51 v228 v257 k0_t62) a + S1x1x1x16x128.size a ≤ S2x2x108x128x128.size a), (Rect.unit (s := S2x2x108x128x128) (k0_off2968 v1 k0_t51 v228 v257 k0_t62) S1x1x1x16x128.size hinb).PackedRows (EltTy.packing .bf16)) ∧
  (∀ k0_t62 : Fin (k0_t62_loop v228 v257).trips, ∀ a, (k0_off2969 v1 k0_t51 v228 v257 k0_t62) a + S1x1x1x32x128.size a ≤ S2x2x8x1728x128.size a) ∧
  (∀ k0_t62 : Fin (k0_t62_loop v228 v257).trips, ∀ a, (k0_off2971 v1 k0_t51 v228 v257 k0_t62) a + S1x1x1x16x128.size a ≤ S2x2x108x128x128.size a) ∧
  (∀ k0_t62 : Fin (k0_t62_loop v228 v257).trips, ∀ (hinb : ∀ a, (k0_off2971 v1 k0_t51 v228 v257 k0_t62) a + S1x1x1x16x128.size a ≤ S2x2x108x128x128.size a), (Rect.unit (s := S2x2x108x128x128) (k0_off2971 v1 k0_t51 v228 v257 k0_t62) S1x1x1x16x128.size hinb).PackedRows (EltTy.packing .bf16)) ∧
  (∀ k0_t62 : Fin (k0_t62_loop v228 v257).trips, ∀ a, (k0_off2973 v1 k0_t51 v228 v257 k0_t62) a + S1x1x1x16x128.size a ≤ S2x2x108x128x128.size a) ∧
  (∀ k0_t62 : Fin (k0_t62_loop v228 v257).trips, ∀ (hinb : ∀ a, (k0_off2973 v1 k0_t51 v228 v257 k0_t62) a + S1x1x1x16x128.size a ≤ S2x2x108x128x128.size a), (Rect.unit (s := S2x2x108x128x128) (k0_off2973 v1 k0_t51 v228 v257 k0_t62) S1x1x1x16x128.size hinb).PackedRows (EltTy.packing .bf16)) ∧
  (∀ k0_t62 : Fin (k0_t62_loop v228 v257).trips, ∀ a, (k0_off2974 v1 k0_t51 v228 v257 k0_t62) a + S1x1x1x32x128.size a ≤ S2x2x8x1728x128.size a) ∧
  (∀ k0_t62 : Fin (k0_t62_loop v228 v257).trips, ∀ a, (k0_off2976 v1 k0_t51 v228 v257 k0_t62) a + S1x1x1x16x128.size a ≤ S2x2x108x128x128.size a) ∧
  (∀ k0_t62 : Fin (k0_t62_loop v228 v257).trips, ∀ (hinb : ∀ a, (k0_off2976 v1 k0_t51 v228 v257 k0_t62) a + S1x1x1x16x128.size a ≤ S2x2x108x128x128.size a), (Rect.unit (s := S2x2x108x128x128) (k0_off2976 v1 k0_t51 v228 v257 k0_t62) S1x1x1x16x128.size hinb).PackedRows (EltTy.packing .bf16)) ∧
  (∀ k0_t62 : Fin (k0_t62_loop v228 v257).trips, ∀ a, (k0_off2978 v1 k0_t51 v228 v257 k0_t62) a + S1x1x1x16x128.size a ≤ S2x2x108x128x128.size a) ∧
  (∀ k0_t62 : Fin (k0_t62_loop v228 v257).trips, ∀ (hinb : ∀ a, (k0_off2978 v1 k0_t51 v228 v257 k0_t62) a + S1x1x1x16x128.size a ≤ S2x2x108x128x128.size a), (Rect.unit (s := S2x2x108x128x128) (k0_off2978 v1 k0_t51 v228 v257 k0_t62) S1x1x1x16x128.size hinb).PackedRows (EltTy.packing .bf16)) ∧
  (∀ k0_t62 : Fin (k0_t62_loop v228 v257).trips, ∀ a, (k0_off2979 v1 k0_t51 v228 v257 k0_t62) a + S1x1x1x32x128.size a ≤ S2x2x8x1728x128.size a) ∧
  (∀ k0_t62 : Fin (k0_t62_loop v228 v257).trips, ∀ a, (k0_off2981 v1 k0_t51 v228 v257 k0_t62) a + S1x1x1x16x128.size a ≤ S2x2x108x128x128.size a) ∧
  (∀ k0_t62 : Fin (k0_t62_loop v228 v257).trips, ∀ (hinb : ∀ a, (k0_off2981 v1 k0_t51 v228 v257 k0_t62) a + S1x1x1x16x128.size a ≤ S2x2x108x128x128.size a), (Rect.unit (s := S2x2x108x128x128) (k0_off2981 v1 k0_t51 v228 v257 k0_t62) S1x1x1x16x128.size hinb).PackedRows (EltTy.packing .bf16)) ∧
  (∀ k0_t62 : Fin (k0_t62_loop v228 v257).trips, ∀ a, (k0_off2983 v1 k0_t51 v228 v257 k0_t62) a + S1x1x1x16x128.size a ≤ S2x2x108x128x128.size a) ∧
  (∀ k0_t62 : Fin (k0_t62_loop v228 v257).trips, ∀ (hinb : ∀ a, (k0_off2983 v1 k0_t51 v228 v257 k0_t62) a + S1x1x1x16x128.size a ≤ S2x2x108x128x128.size a), (Rect.unit (s := S2x2x108x128x128) (k0_off2983 v1 k0_t51 v228 v257 k0_t62) S1x1x1x16x128.size hinb).PackedRows (EltTy.packing .bf16)) ∧
  (∀ k0_t62 : Fin (k0_t62_loop v228 v257).trips, ∀ a, (k0_off2984 v1 k0_t51 v228 v257 k0_t62) a + S1x1x1x32x128.size a ≤ S2x2x8x1728x128.size a) ∧
  (∀ k0_t62 : Fin (k0_t62_loop v228 v257).trips, ∀ a, (k0_off2986 v1 k0_t51 v228 v257 k0_t62) a + S1x1x1x16x128.size a ≤ S2x2x108x128x128.size a) ∧
  (∀ k0_t62 : Fin (k0_t62_loop v228 v257).trips, ∀ (hinb : ∀ a, (k0_off2986 v1 k0_t51 v228 v257 k0_t62) a + S1x1x1x16x128.size a ≤ S2x2x108x128x128.size a), (Rect.unit (s := S2x2x108x128x128) (k0_off2986 v1 k0_t51 v228 v257 k0_t62) S1x1x1x16x128.size hinb).PackedRows (EltTy.packing .bf16)) ∧
  (∀ k0_t62 : Fin (k0_t62_loop v228 v257).trips, ∀ a, (k0_off2988 v1 k0_t51 v228 v257 k0_t62) a + S1x1x1x16x128.size a ≤ S2x2x108x128x128.size a)
def k0_chk35_39 (v1 : BitVec 32) (k0_t51 : Fin (k0_t51_loop v1).trips) (v228 : BitVec 32) (v257 : BitVec 32) : Prop :=
  (∀ k0_t62 : Fin (k0_t62_loop v228 v257).trips, ∀ (hinb : ∀ a, (k0_off2988 v1 k0_t51 v228 v257 k0_t62) a + S1x1x1x16x128.size a ≤ S2x2x108x128x128.size a), (Rect.unit (s := S2x2x108x128x128) (k0_off2988 v1 k0_t51 v228 v257 k0_t62) S1x1x1x16x128.size hinb).PackedRows (EltTy.packing .bf16)) ∧
  (∀ k0_t62 : Fin (k0_t62_loop v228 v257).trips, ∀ a, (k0_off2989 v1 k0_t51 v228 v257 k0_t62) a + S1x1x1x32x128.size a ≤ S2x2x8x1728x128.size a) ∧
  (∀ k0_t62 : Fin (k0_t62_loop v228 v257).trips, ∀ a, (k0_off2991 v1 k0_t51 v228 v257 k0_t62) a + S1x1x1x16x128.size a ≤ S2x2x108x128x128.size a) ∧
  (∀ k0_t62 : Fin (k0_t62_loop v228 v257).trips, ∀ (hinb : ∀ a, (k0_off2991 v1 k0_t51 v228 v257 k0_t62) a + S1x1x1x16x128.size a ≤ S2x2x108x128x128.size a), (Rect.unit (s := S2x2x108x128x128) (k0_off2991 v1 k0_t51 v228 v257 k0_t62) S1x1x1x16x128.size hinb).PackedRows (EltTy.packing .bf16)) ∧
  (∀ k0_t62 : Fin (k0_t62_loop v228 v257).trips, ∀ a, (k0_off2993 v1 k0_t51 v228 v257 k0_t62) a + S1x1x1x16x128.size a ≤ S2x2x108x128x128.size a) ∧
  (∀ k0_t62 : Fin (k0_t62_loop v228 v257).trips, ∀ (hinb : ∀ a, (k0_off2993 v1 k0_t51 v228 v257 k0_t62) a + S1x1x1x16x128.size a ≤ S2x2x108x128x128.size a), (Rect.unit (s := S2x2x108x128x128) (k0_off2993 v1 k0_t51 v228 v257 k0_t62) S1x1x1x16x128.size hinb).PackedRows (EltTy.packing .bf16)) ∧
  (∀ k0_t62 : Fin (k0_t62_loop v228 v257).trips, ∀ a, (k0_off2994 v1 k0_t51 v228 v257 k0_t62) a + S1x1x1x32x128.size a ≤ S2x2x8x1728x128.size a) ∧
  (∀ k0_t62 : Fin (k0_t62_loop v228 v257).trips, ∀ a, (k0_off2996 v1 k0_t51 v228 v257 k0_t62) a + S1x1x1x16x128.size a ≤ S2x2x108x128x128.size a) ∧
  (∀ k0_t62 : Fin (k0_t62_loop v228 v257).trips, ∀ (hinb : ∀ a, (k0_off2996 v1 k0_t51 v228 v257 k0_t62) a + S1x1x1x16x128.size a ≤ S2x2x108x128x128.size a), (Rect.unit (s := S2x2x108x128x128) (k0_off2996 v1 k0_t51 v228 v257 k0_t62) S1x1x1x16x128.size hinb).PackedRows (EltTy.packing .bf16)) ∧
  (∀ k0_t62 : Fin (k0_t62_loop v228 v257).trips, ∀ a, (k0_off2998 v1 k0_t51 v228 v257 k0_t62) a + S1x1x1x16x128.size a ≤ S2x2x108x128x128.size a) ∧
  (∀ k0_t62 : Fin (k0_t62_loop v228 v257).trips, ∀ (hinb : ∀ a, (k0_off2998 v1 k0_t51 v228 v257 k0_t62) a + S1x1x1x16x128.size a ≤ S2x2x108x128x128.size a), (Rect.unit (s := S2x2x108x128x128) (k0_off2998 v1 k0_t51 v228 v257 k0_t62) S1x1x1x16x128.size hinb).PackedRows (EltTy.packing .bf16)) ∧
  (∀ k0_t62 : Fin (k0_t62_loop v228 v257).trips, ∀ a, (k0_off2999 v1 k0_t51 v228 v257 k0_t62) a + S1x1x1x32x128.size a ≤ S2x2x8x1728x128.size a) ∧
  (∀ k0_t62 : Fin (k0_t62_loop v228 v257).trips, ∀ a, (k0_off3001 v1 k0_t51 v228 v257 k0_t62) a + S1x1x1x16x128.size a ≤ S2x2x108x128x128.size a) ∧
  (∀ k0_t62 : Fin (k0_t62_loop v228 v257).trips, ∀ (hinb : ∀ a, (k0_off3001 v1 k0_t51 v228 v257 k0_t62) a + S1x1x1x16x128.size a ≤ S2x2x108x128x128.size a), (Rect.unit (s := S2x2x108x128x128) (k0_off3001 v1 k0_t51 v228 v257 k0_t62) S1x1x1x16x128.size hinb).PackedRows (EltTy.packing .bf16)) ∧
  (∀ k0_t62 : Fin (k0_t62_loop v228 v257).trips, ∀ a, (k0_off3003 v1 k0_t51 v228 v257 k0_t62) a + S1x1x1x16x128.size a ≤ S2x2x108x128x128.size a) ∧
  (∀ k0_t62 : Fin (k0_t62_loop v228 v257).trips, ∀ (hinb : ∀ a, (k0_off3003 v1 k0_t51 v228 v257 k0_t62) a + S1x1x1x16x128.size a ≤ S2x2x108x128x128.size a), (Rect.unit (s := S2x2x108x128x128) (k0_off3003 v1 k0_t51 v228 v257 k0_t62) S1x1x1x16x128.size hinb).PackedRows (EltTy.packing .bf16)) ∧
  (∀ k0_t62 : Fin (k0_t62_loop v228 v257).trips, ∀ a, (k0_off3004 v1 k0_t51 v228 v257 k0_t62) a + S1x1x1x32x128.size a ≤ S2x2x8x1728x128.size a) ∧
  (∀ k0_t62 : Fin (k0_t62_loop v228 v257).trips, ∀ a, (k0_off3006 v1 k0_t51 v228 v257 k0_t62) a + S1x1x1x16x128.size a ≤ S2x2x108x128x128.size a) ∧
  (∀ k0_t62 : Fin (k0_t62_loop v228 v257).trips, ∀ (hinb : ∀ a, (k0_off3006 v1 k0_t51 v228 v257 k0_t62) a + S1x1x1x16x128.size a ≤ S2x2x108x128x128.size a), (Rect.unit (s := S2x2x108x128x128) (k0_off3006 v1 k0_t51 v228 v257 k0_t62) S1x1x1x16x128.size hinb).PackedRows (EltTy.packing .bf16)) ∧
  (∀ k0_t62 : Fin (k0_t62_loop v228 v257).trips, ∀ a, (k0_off3008 v1 k0_t51 v228 v257 k0_t62) a + S1x1x1x16x128.size a ≤ S2x2x108x128x128.size a) ∧
  (∀ k0_t62 : Fin (k0_t62_loop v228 v257).trips, ∀ (hinb : ∀ a, (k0_off3008 v1 k0_t51 v228 v257 k0_t62) a + S1x1x1x16x128.size a ≤ S2x2x108x128x128.size a), (Rect.unit (s := S2x2x108x128x128) (k0_off3008 v1 k0_t51 v228 v257 k0_t62) S1x1x1x16x128.size hinb).PackedRows (EltTy.packing .bf16)) ∧
  (∀ k0_t62 : Fin (k0_t62_loop v228 v257).trips, ∀ a, (k0_off3009 v1 k0_t51 v228 v257 k0_t62) a + S1x1x1x32x128.size a ≤ S2x2x8x1728x128.size a) ∧
  (∀ k0_t62 : Fin (k0_t62_loop v228 v257).trips, ∀ a, (k0_off3011 v1 k0_t51 v228 v257 k0_t62) a + S1x1x1x16x128.size a ≤ S2x2x108x128x128.size a) ∧
  (∀ k0_t62 : Fin (k0_t62_loop v228 v257).trips, ∀ (hinb : ∀ a, (k0_off3011 v1 k0_t51 v228 v257 k0_t62) a + S1x1x1x16x128.size a ≤ S2x2x108x128x128.size a), (Rect.unit (s := S2x2x108x128x128) (k0_off3011 v1 k0_t51 v228 v257 k0_t62) S1x1x1x16x128.size hinb).PackedRows (EltTy.packing .bf16)) ∧
  (∀ k0_t62 : Fin (k0_t62_loop v228 v257).trips, ∀ a, (k0_off3013 v1 k0_t51 v228 v257 k0_t62) a + S1x1x1x16x128.size a ≤ S2x2x108x128x128.size a) ∧
  (∀ k0_t62 : Fin (k0_t62_loop v228 v257).trips, ∀ (hinb : ∀ a, (k0_off3013 v1 k0_t51 v228 v257 k0_t62) a + S1x1x1x16x128.size a ≤ S2x2x108x128x128.size a), (Rect.unit (s := S2x2x108x128x128) (k0_off3013 v1 k0_t51 v228 v257 k0_t62) S1x1x1x16x128.size hinb).PackedRows (EltTy.packing .bf16)) ∧
  ((k0_t63_loop v228 v257).OK) ∧
  (∀ k0_t63 : Fin (k0_t63_loop v228 v257).trips, ∀ a, (k0_off3014 v228 v257 k0_t63) a + S1x1.size a ≤ S8x128.size a) ∧
  (∀ k0_t63 : Fin (k0_t63_loop v228 v257).trips, ∀ a, (k0_off3015 v228) a + S1.size a ≤ S8.size a) ∧
  (∀ k0_t63 : Fin (k0_t63_loop v228 v257).trips, 16 ∣ (k0_mult25 v228 v257 k0_t63).toNat) ∧
  (∀ k0_t63 : Fin (k0_t63_loop v228 v257).trips, ∀ a, (k0_off3016 v1 k0_t51 v228 v257 k0_t63) a + S1x1x1x32x128.size a ≤ S2x2x8x1728x128.size a) ∧
  (∀ k0_t63 : Fin (k0_t63_loop v228 v257).trips, ∀ a, (k0_off3018 v1 k0_t51 v228 v257 k0_t63) a + S1x1x1x16x128.size a ≤ S2x2x108x128x128.size a)
def k0_chk35_40 (v1 : BitVec 32) (k0_t51 : Fin (k0_t51_loop v1).trips) (v228 : BitVec 32) (v257 : BitVec 32) : Prop :=
  (∀ k0_t63 : Fin (k0_t63_loop v228 v257).trips, ∀ (hinb : ∀ a, (k0_off3018 v1 k0_t51 v228 v257 k0_t63) a + S1x1x1x16x128.size a ≤ S2x2x108x128x128.size a), (Rect.unit (s := S2x2x108x128x128) (k0_off3018 v1 k0_t51 v228 v257 k0_t63) S1x1x1x16x128.size hinb).PackedRows (EltTy.packing .bf16)) ∧
  (∀ k0_t63 : Fin (k0_t63_loop v228 v257).trips, ∀ a, (k0_off3020 v1 k0_t51 v228 v257 k0_t63) a + S1x1x1x16x128.size a ≤ S2x2x108x128x128.size a) ∧
  (∀ k0_t63 : Fin (k0_t63_loop v228 v257).trips, ∀ (hinb : ∀ a, (k0_off3020 v1 k0_t51 v228 v257 k0_t63) a + S1x1x1x16x128.size a ≤ S2x2x108x128x128.size a), (Rect.unit (s := S2x2x108x128x128) (k0_off3020 v1 k0_t51 v228 v257 k0_t63) S1x1x1x16x128.size hinb).PackedRows (EltTy.packing .bf16)) ∧
  (∀ k0_t63 : Fin (k0_t63_loop v228 v257).trips, ∀ a, (k0_off3021 v1 k0_t51 v228 v257 k0_t63) a + S1x1x1x32x128.size a ≤ S2x2x8x1728x128.size a) ∧
  (∀ k0_t63 : Fin (k0_t63_loop v228 v257).trips, ∀ a, (k0_off3023 v1 k0_t51 v228 v257 k0_t63) a + S1x1x1x16x128.size a ≤ S2x2x108x128x128.size a) ∧
  (∀ k0_t63 : Fin (k0_t63_loop v228 v257).trips, ∀ (hinb : ∀ a, (k0_off3023 v1 k0_t51 v228 v257 k0_t63) a + S1x1x1x16x128.size a ≤ S2x2x108x128x128.size a), (Rect.unit (s := S2x2x108x128x128) (k0_off3023 v1 k0_t51 v228 v257 k0_t63) S1x1x1x16x128.size hinb).PackedRows (EltTy.packing .bf16)) ∧
  (∀ k0_t63 : Fin (k0_t63_loop v228 v257).trips, ∀ a, (k0_off3025 v1 k0_t51 v228 v257 k0_t63) a + S1x1x1x16x128.size a ≤ S2x2x108x128x128.size a) ∧
  (∀ k0_t63 : Fin (k0_t63_loop v228 v257).trips, ∀ (hinb : ∀ a, (k0_off3025 v1 k0_t51 v228 v257 k0_t63) a + S1x1x1x16x128.size a ≤ S2x2x108x128x128.size a), (Rect.unit (s := S2x2x108x128x128) (k0_off3025 v1 k0_t51 v228 v257 k0_t63) S1x1x1x16x128.size hinb).PackedRows (EltTy.packing .bf16)) ∧
  (∀ k0_t63 : Fin (k0_t63_loop v228 v257).trips, ∀ a, (k0_off3026 v1 k0_t51 v228 v257 k0_t63) a + S1x1x1x32x128.size a ≤ S2x2x8x1728x128.size a) ∧
  (∀ k0_t63 : Fin (k0_t63_loop v228 v257).trips, ∀ a, (k0_off3028 v1 k0_t51 v228 v257 k0_t63) a + S1x1x1x16x128.size a ≤ S2x2x108x128x128.size a) ∧
  (∀ k0_t63 : Fin (k0_t63_loop v228 v257).trips, ∀ (hinb : ∀ a, (k0_off3028 v1 k0_t51 v228 v257 k0_t63) a + S1x1x1x16x128.size a ≤ S2x2x108x128x128.size a), (Rect.unit (s := S2x2x108x128x128) (k0_off3028 v1 k0_t51 v228 v257 k0_t63) S1x1x1x16x128.size hinb).PackedRows (EltTy.packing .bf16)) ∧
  (∀ k0_t63 : Fin (k0_t63_loop v228 v257).trips, ∀ a, (k0_off3030 v1 k0_t51 v228 v257 k0_t63) a + S1x1x1x16x128.size a ≤ S2x2x108x128x128.size a) ∧
  (∀ k0_t63 : Fin (k0_t63_loop v228 v257).trips, ∀ (hinb : ∀ a, (k0_off3030 v1 k0_t51 v228 v257 k0_t63) a + S1x1x1x16x128.size a ≤ S2x2x108x128x128.size a), (Rect.unit (s := S2x2x108x128x128) (k0_off3030 v1 k0_t51 v228 v257 k0_t63) S1x1x1x16x128.size hinb).PackedRows (EltTy.packing .bf16)) ∧
  (∀ k0_t63 : Fin (k0_t63_loop v228 v257).trips, ∀ a, (k0_off3031 v1 k0_t51 v228 v257 k0_t63) a + S1x1x1x32x128.size a ≤ S2x2x8x1728x128.size a) ∧
  (∀ k0_t63 : Fin (k0_t63_loop v228 v257).trips, ∀ a, (k0_off3033 v1 k0_t51 v228 v257 k0_t63) a + S1x1x1x16x128.size a ≤ S2x2x108x128x128.size a) ∧
  (∀ k0_t63 : Fin (k0_t63_loop v228 v257).trips, ∀ (hinb : ∀ a, (k0_off3033 v1 k0_t51 v228 v257 k0_t63) a + S1x1x1x16x128.size a ≤ S2x2x108x128x128.size a), (Rect.unit (s := S2x2x108x128x128) (k0_off3033 v1 k0_t51 v228 v257 k0_t63) S1x1x1x16x128.size hinb).PackedRows (EltTy.packing .bf16)) ∧
  (∀ k0_t63 : Fin (k0_t63_loop v228 v257).trips, ∀ a, (k0_off3035 v1 k0_t51 v228 v257 k0_t63) a + S1x1x1x16x128.size a ≤ S2x2x108x128x128.size a) ∧
  (∀ k0_t63 : Fin (k0_t63_loop v228 v257).trips, ∀ (hinb : ∀ a, (k0_off3035 v1 k0_t51 v228 v257 k0_t63) a + S1x1x1x16x128.size a ≤ S2x2x108x128x128.size a), (Rect.unit (s := S2x2x108x128x128) (k0_off3035 v1 k0_t51 v228 v257 k0_t63) S1x1x1x16x128.size hinb).PackedRows (EltTy.packing .bf16)) ∧
  (∀ k0_t63 : Fin (k0_t63_loop v228 v257).trips, ∀ a, (k0_off3036 v1 k0_t51 v228 v257 k0_t63) a + S1x1x1x32x128.size a ≤ S2x2x8x1728x128.size a) ∧
  (∀ k0_t63 : Fin (k0_t63_loop v228 v257).trips, ∀ a, (k0_off3038 v1 k0_t51 v228 v257 k0_t63) a + S1x1x1x16x128.size a ≤ S2x2x108x128x128.size a) ∧
  (∀ k0_t63 : Fin (k0_t63_loop v228 v257).trips, ∀ (hinb : ∀ a, (k0_off3038 v1 k0_t51 v228 v257 k0_t63) a + S1x1x1x16x128.size a ≤ S2x2x108x128x128.size a), (Rect.unit (s := S2x2x108x128x128) (k0_off3038 v1 k0_t51 v228 v257 k0_t63) S1x1x1x16x128.size hinb).PackedRows (EltTy.packing .bf16)) ∧
  (∀ k0_t63 : Fin (k0_t63_loop v228 v257).trips, ∀ a, (k0_off3040 v1 k0_t51 v228 v257 k0_t63) a + S1x1x1x16x128.size a ≤ S2x2x108x128x128.size a) ∧
  (∀ k0_t63 : Fin (k0_t63_loop v228 v257).trips, ∀ (hinb : ∀ a, (k0_off3040 v1 k0_t51 v228 v257 k0_t63) a + S1x1x1x16x128.size a ≤ S2x2x108x128x128.size a), (Rect.unit (s := S2x2x108x128x128) (k0_off3040 v1 k0_t51 v228 v257 k0_t63) S1x1x1x16x128.size hinb).PackedRows (EltTy.packing .bf16)) ∧
  (∀ k0_t63 : Fin (k0_t63_loop v228 v257).trips, ∀ a, (k0_off3041 v1 k0_t51 v228 v257 k0_t63) a + S1x1x1x32x128.size a ≤ S2x2x8x1728x128.size a) ∧
  (∀ k0_t63 : Fin (k0_t63_loop v228 v257).trips, ∀ a, (k0_off3043 v1 k0_t51 v228 v257 k0_t63) a + S1x1x1x16x128.size a ≤ S2x2x108x128x128.size a) ∧
  (∀ k0_t63 : Fin (k0_t63_loop v228 v257).trips, ∀ (hinb : ∀ a, (k0_off3043 v1 k0_t51 v228 v257 k0_t63) a + S1x1x1x16x128.size a ≤ S2x2x108x128x128.size a), (Rect.unit (s := S2x2x108x128x128) (k0_off3043 v1 k0_t51 v228 v257 k0_t63) S1x1x1x16x128.size hinb).PackedRows (EltTy.packing .bf16)) ∧
  (∀ k0_t63 : Fin (k0_t63_loop v228 v257).trips, ∀ a, (k0_off3045 v1 k0_t51 v228 v257 k0_t63) a + S1x1x1x16x128.size a ≤ S2x2x108x128x128.size a) ∧
  (∀ k0_t63 : Fin (k0_t63_loop v228 v257).trips, ∀ (hinb : ∀ a, (k0_off3045 v1 k0_t51 v228 v257 k0_t63) a + S1x1x1x16x128.size a ≤ S2x2x108x128x128.size a), (Rect.unit (s := S2x2x108x128x128) (k0_off3045 v1 k0_t51 v228 v257 k0_t63) S1x1x1x16x128.size hinb).PackedRows (EltTy.packing .bf16)) ∧
  (∀ k0_t63 : Fin (k0_t63_loop v228 v257).trips, ∀ a, (k0_off3046 v1 k0_t51 v228 v257 k0_t63) a + S1x1x1x32x128.size a ≤ S2x2x8x1728x128.size a) ∧
  (∀ k0_t63 : Fin (k0_t63_loop v228 v257).trips, ∀ a, (k0_off3048 v1 k0_t51 v228 v257 k0_t63) a + S1x1x1x16x128.size a ≤ S2x2x108x128x128.size a) ∧
  (∀ k0_t63 : Fin (k0_t63_loop v228 v257).trips, ∀ (hinb : ∀ a, (k0_off3048 v1 k0_t51 v228 v257 k0_t63) a + S1x1x1x16x128.size a ≤ S2x2x108x128x128.size a), (Rect.unit (s := S2x2x108x128x128) (k0_off3048 v1 k0_t51 v228 v257 k0_t63) S1x1x1x16x128.size hinb).PackedRows (EltTy.packing .bf16)) ∧
  (∀ k0_t63 : Fin (k0_t63_loop v228 v257).trips, ∀ a, (k0_off3050 v1 k0_t51 v228 v257 k0_t63) a + S1x1x1x16x128.size a ≤ S2x2x108x128x128.size a)
def k0_chk35_41 (v1 : BitVec 32) (k0_t51 : Fin (k0_t51_loop v1).trips) (v228 : BitVec 32) (v257 : BitVec 32) : Prop :=
  (∀ k0_t63 : Fin (k0_t63_loop v228 v257).trips, ∀ (hinb : ∀ a, (k0_off3050 v1 k0_t51 v228 v257 k0_t63) a + S1x1x1x16x128.size a ≤ S2x2x108x128x128.size a), (Rect.unit (s := S2x2x108x128x128) (k0_off3050 v1 k0_t51 v228 v257 k0_t63) S1x1x1x16x128.size hinb).PackedRows (EltTy.packing .bf16)) ∧
  (∀ k0_t63 : Fin (k0_t63_loop v228 v257).trips, ∀ a, (k0_off3051 v1 k0_t51 v228 v257 k0_t63) a + S1x1x1x32x128.size a ≤ S2x2x8x1728x128.size a) ∧
  (∀ k0_t63 : Fin (k0_t63_loop v228 v257).trips, ∀ a, (k0_off3053 v1 k0_t51 v228 v257 k0_t63) a + S1x1x1x16x128.size a ≤ S2x2x108x128x128.size a) ∧
  (∀ k0_t63 : Fin (k0_t63_loop v228 v257).trips, ∀ (hinb : ∀ a, (k0_off3053 v1 k0_t51 v228 v257 k0_t63) a + S1x1x1x16x128.size a ≤ S2x2x108x128x128.size a), (Rect.unit (s := S2x2x108x128x128) (k0_off3053 v1 k0_t51 v228 v257 k0_t63) S1x1x1x16x128.size hinb).PackedRows (EltTy.packing .bf16)) ∧
  (∀ k0_t63 : Fin (k0_t63_loop v228 v257).trips, ∀ a, (k0_off3055 v1 k0_t51 v228 v257 k0_t63) a + S1x1x1x16x128.size a ≤ S2x2x108x128x128.size a) ∧
  (∀ k0_t63 : Fin (k0_t63_loop v228 v257).trips, ∀ (hinb : ∀ a, (k0_off3055 v1 k0_t51 v228 v257 k0_t63) a + S1x1x1x16x128.size a ≤ S2x2x108x128x128.size a), (Rect.unit (s := S2x2x108x128x128) (k0_off3055 v1 k0_t51 v228 v257 k0_t63) S1x1x1x16x128.size hinb).PackedRows (EltTy.packing .bf16)) ∧
  (∀ k0_t63 : Fin (k0_t63_loop v228 v257).trips, ∀ a, (k0_off3056 v1 k0_t51 v228 v257 k0_t63) a + S1x1x1x32x128.size a ≤ S2x2x8x1728x128.size a) ∧
  (∀ k0_t63 : Fin (k0_t63_loop v228 v257).trips, ∀ a, (k0_off3058 v1 k0_t51 v228 v257 k0_t63) a + S1x1x1x16x128.size a ≤ S2x2x108x128x128.size a) ∧
  (∀ k0_t63 : Fin (k0_t63_loop v228 v257).trips, ∀ (hinb : ∀ a, (k0_off3058 v1 k0_t51 v228 v257 k0_t63) a + S1x1x1x16x128.size a ≤ S2x2x108x128x128.size a), (Rect.unit (s := S2x2x108x128x128) (k0_off3058 v1 k0_t51 v228 v257 k0_t63) S1x1x1x16x128.size hinb).PackedRows (EltTy.packing .bf16)) ∧
  (∀ k0_t63 : Fin (k0_t63_loop v228 v257).trips, ∀ a, (k0_off3060 v1 k0_t51 v228 v257 k0_t63) a + S1x1x1x16x128.size a ≤ S2x2x108x128x128.size a) ∧
  (∀ k0_t63 : Fin (k0_t63_loop v228 v257).trips, ∀ (hinb : ∀ a, (k0_off3060 v1 k0_t51 v228 v257 k0_t63) a + S1x1x1x16x128.size a ≤ S2x2x108x128x128.size a), (Rect.unit (s := S2x2x108x128x128) (k0_off3060 v1 k0_t51 v228 v257 k0_t63) S1x1x1x16x128.size hinb).PackedRows (EltTy.packing .bf16)) ∧
  (∀ k0_t63 : Fin (k0_t63_loop v228 v257).trips, ∀ a, (k0_off3061 v1 k0_t51 v228 v257 k0_t63) a + S1x1x1x32x128.size a ≤ S2x2x8x1728x128.size a) ∧
  (∀ k0_t63 : Fin (k0_t63_loop v228 v257).trips, ∀ a, (k0_off3063 v1 k0_t51 v228 v257 k0_t63) a + S1x1x1x16x128.size a ≤ S2x2x108x128x128.size a) ∧
  (∀ k0_t63 : Fin (k0_t63_loop v228 v257).trips, ∀ (hinb : ∀ a, (k0_off3063 v1 k0_t51 v228 v257 k0_t63) a + S1x1x1x16x128.size a ≤ S2x2x108x128x128.size a), (Rect.unit (s := S2x2x108x128x128) (k0_off3063 v1 k0_t51 v228 v257 k0_t63) S1x1x1x16x128.size hinb).PackedRows (EltTy.packing .bf16)) ∧
  (∀ k0_t63 : Fin (k0_t63_loop v228 v257).trips, ∀ a, (k0_off3065 v1 k0_t51 v228 v257 k0_t63) a + S1x1x1x16x128.size a ≤ S2x2x108x128x128.size a) ∧
  (∀ k0_t63 : Fin (k0_t63_loop v228 v257).trips, ∀ (hinb : ∀ a, (k0_off3065 v1 k0_t51 v228 v257 k0_t63) a + S1x1x1x16x128.size a ≤ S2x2x108x128x128.size a), (Rect.unit (s := S2x2x108x128x128) (k0_off3065 v1 k0_t51 v228 v257 k0_t63) S1x1x1x16x128.size hinb).PackedRows (EltTy.packing .bf16)) ∧
  (∀ k0_t63 : Fin (k0_t63_loop v228 v257).trips, ∀ a, (k0_off3066 v1 k0_t51 v228 v257 k0_t63) a + S1x1x1x32x128.size a ≤ S2x2x8x1728x128.size a) ∧
  (∀ k0_t63 : Fin (k0_t63_loop v228 v257).trips, ∀ a, (k0_off3068 v1 k0_t51 v228 v257 k0_t63) a + S1x1x1x16x128.size a ≤ S2x2x108x128x128.size a) ∧
  (∀ k0_t63 : Fin (k0_t63_loop v228 v257).trips, ∀ (hinb : ∀ a, (k0_off3068 v1 k0_t51 v228 v257 k0_t63) a + S1x1x1x16x128.size a ≤ S2x2x108x128x128.size a), (Rect.unit (s := S2x2x108x128x128) (k0_off3068 v1 k0_t51 v228 v257 k0_t63) S1x1x1x16x128.size hinb).PackedRows (EltTy.packing .bf16)) ∧
  (∀ k0_t63 : Fin (k0_t63_loop v228 v257).trips, ∀ a, (k0_off3070 v1 k0_t51 v228 v257 k0_t63) a + S1x1x1x16x128.size a ≤ S2x2x108x128x128.size a) ∧
  (∀ k0_t63 : Fin (k0_t63_loop v228 v257).trips, ∀ (hinb : ∀ a, (k0_off3070 v1 k0_t51 v228 v257 k0_t63) a + S1x1x1x16x128.size a ≤ S2x2x108x128x128.size a), (Rect.unit (s := S2x2x108x128x128) (k0_off3070 v1 k0_t51 v228 v257 k0_t63) S1x1x1x16x128.size hinb).PackedRows (EltTy.packing .bf16)) ∧
  (∀ k0_t63 : Fin (k0_t63_loop v228 v257).trips, ∀ a, (k0_off3071 v1 k0_t51 v228 v257 k0_t63) a + S1x1x1x32x128.size a ≤ S2x2x8x1728x128.size a) ∧
  (∀ k0_t63 : Fin (k0_t63_loop v228 v257).trips, ∀ a, (k0_off3073 v1 k0_t51 v228 v257 k0_t63) a + S1x1x1x16x128.size a ≤ S2x2x108x128x128.size a) ∧
  (∀ k0_t63 : Fin (k0_t63_loop v228 v257).trips, ∀ (hinb : ∀ a, (k0_off3073 v1 k0_t51 v228 v257 k0_t63) a + S1x1x1x16x128.size a ≤ S2x2x108x128x128.size a), (Rect.unit (s := S2x2x108x128x128) (k0_off3073 v1 k0_t51 v228 v257 k0_t63) S1x1x1x16x128.size hinb).PackedRows (EltTy.packing .bf16)) ∧
  (∀ k0_t63 : Fin (k0_t63_loop v228 v257).trips, ∀ a, (k0_off3075 v1 k0_t51 v228 v257 k0_t63) a + S1x1x1x16x128.size a ≤ S2x2x108x128x128.size a) ∧
  (∀ k0_t63 : Fin (k0_t63_loop v228 v257).trips, ∀ (hinb : ∀ a, (k0_off3075 v1 k0_t51 v228 v257 k0_t63) a + S1x1x1x16x128.size a ≤ S2x2x108x128x128.size a), (Rect.unit (s := S2x2x108x128x128) (k0_off3075 v1 k0_t51 v228 v257 k0_t63) S1x1x1x16x128.size hinb).PackedRows (EltTy.packing .bf16)) ∧
  (∀ k0_t63 : Fin (k0_t63_loop v228 v257).trips, ∀ a, (k0_off3076 v1 k0_t51 v228 v257 k0_t63) a + S1x1x1x32x128.size a ≤ S2x2x8x1728x128.size a) ∧
  (∀ k0_t63 : Fin (k0_t63_loop v228 v257).trips, ∀ a, (k0_off3078 v1 k0_t51 v228 v257 k0_t63) a + S1x1x1x16x128.size a ≤ S2x2x108x128x128.size a) ∧
  (∀ k0_t63 : Fin (k0_t63_loop v228 v257).trips, ∀ (hinb : ∀ a, (k0_off3078 v1 k0_t51 v228 v257 k0_t63) a + S1x1x1x16x128.size a ≤ S2x2x108x128x128.size a), (Rect.unit (s := S2x2x108x128x128) (k0_off3078 v1 k0_t51 v228 v257 k0_t63) S1x1x1x16x128.size hinb).PackedRows (EltTy.packing .bf16)) ∧
  (∀ k0_t63 : Fin (k0_t63_loop v228 v257).trips, ∀ a, (k0_off3080 v1 k0_t51 v228 v257 k0_t63) a + S1x1x1x16x128.size a ≤ S2x2x108x128x128.size a) ∧
  (∀ k0_t63 : Fin (k0_t63_loop v228 v257).trips, ∀ (hinb : ∀ a, (k0_off3080 v1 k0_t51 v228 v257 k0_t63) a + S1x1x1x16x128.size a ≤ S2x2x108x128x128.size a), (Rect.unit (s := S2x2x108x128x128) (k0_off3080 v1 k0_t51 v228 v257 k0_t63) S1x1x1x16x128.size hinb).PackedRows (EltTy.packing .bf16)) ∧
  (∀ k0_t63 : Fin (k0_t63_loop v228 v257).trips, ∀ a, (k0_off3081 v1 k0_t51 v228 v257 k0_t63) a + S1x1x1x32x128.size a ≤ S2x2x8x1728x128.size a)
def k0_chk35_42 (v1 : BitVec 32) (k0_t51 : Fin (k0_t51_loop v1).trips) (v228 : BitVec 32) (v257 : BitVec 32) : Prop :=
  (∀ k0_t63 : Fin (k0_t63_loop v228 v257).trips, ∀ a, (k0_off3083 v1 k0_t51 v228 v257 k0_t63) a + S1x1x1x16x128.size a ≤ S2x2x108x128x128.size a) ∧
  (∀ k0_t63 : Fin (k0_t63_loop v228 v257).trips, ∀ (hinb : ∀ a, (k0_off3083 v1 k0_t51 v228 v257 k0_t63) a + S1x1x1x16x128.size a ≤ S2x2x108x128x128.size a), (Rect.unit (s := S2x2x108x128x128) (k0_off3083 v1 k0_t51 v228 v257 k0_t63) S1x1x1x16x128.size hinb).PackedRows (EltTy.packing .bf16)) ∧
  (∀ k0_t63 : Fin (k0_t63_loop v228 v257).trips, ∀ a, (k0_off3085 v1 k0_t51 v228 v257 k0_t63) a + S1x1x1x16x128.size a ≤ S2x2x108x128x128.size a) ∧
  (∀ k0_t63 : Fin (k0_t63_loop v228 v257).trips, ∀ (hinb : ∀ a, (k0_off3085 v1 k0_t51 v228 v257 k0_t63) a + S1x1x1x16x128.size a ≤ S2x2x108x128x128.size a), (Rect.unit (s := S2x2x108x128x128) (k0_off3085 v1 k0_t51 v228 v257 k0_t63) S1x1x1x16x128.size hinb).PackedRows (EltTy.packing .bf16)) ∧
  (∀ k0_t63 : Fin (k0_t63_loop v228 v257).trips, ∀ a, (k0_off3086 v1 k0_t51 v228 v257 k0_t63) a + S1x1x1x32x128.size a ≤ S2x2x8x1728x128.size a) ∧
  (∀ k0_t63 : Fin (k0_t63_loop v228 v257).trips, ∀ a, (k0_off3088 v1 k0_t51 v228 v257 k0_t63) a + S1x1x1x16x128.size a ≤ S2x2x108x128x128.size a) ∧
  (∀ k0_t63 : Fin (k0_t63_loop v228 v257).trips, ∀ (hinb : ∀ a, (k0_off3088 v1 k0_t51 v228 v257 k0_t63) a + S1x1x1x16x128.size a ≤ S2x2x108x128x128.size a), (Rect.unit (s := S2x2x108x128x128) (k0_off3088 v1 k0_t51 v228 v257 k0_t63) S1x1x1x16x128.size hinb).PackedRows (EltTy.packing .bf16)) ∧
  (∀ k0_t63 : Fin (k0_t63_loop v228 v257).trips, ∀ a, (k0_off3090 v1 k0_t51 v228 v257 k0_t63) a + S1x1x1x16x128.size a ≤ S2x2x108x128x128.size a) ∧
  (∀ k0_t63 : Fin (k0_t63_loop v228 v257).trips, ∀ (hinb : ∀ a, (k0_off3090 v1 k0_t51 v228 v257 k0_t63) a + S1x1x1x16x128.size a ≤ S2x2x108x128x128.size a), (Rect.unit (s := S2x2x108x128x128) (k0_off3090 v1 k0_t51 v228 v257 k0_t63) S1x1x1x16x128.size hinb).PackedRows (EltTy.packing .bf16)) ∧
  (∀ k0_t63 : Fin (k0_t63_loop v228 v257).trips, ∀ a, (k0_off3091 v1 k0_t51 v228 v257 k0_t63) a + S1x1x1x32x128.size a ≤ S2x2x8x1728x128.size a) ∧
  (∀ k0_t63 : Fin (k0_t63_loop v228 v257).trips, ∀ a, (k0_off3093 v1 k0_t51 v228 v257 k0_t63) a + S1x1x1x16x128.size a ≤ S2x2x108x128x128.size a) ∧
  (∀ k0_t63 : Fin (k0_t63_loop v228 v257).trips, ∀ (hinb : ∀ a, (k0_off3093 v1 k0_t51 v228 v257 k0_t63) a + S1x1x1x16x128.size a ≤ S2x2x108x128x128.size a), (Rect.unit (s := S2x2x108x128x128) (k0_off3093 v1 k0_t51 v228 v257 k0_t63) S1x1x1x16x128.size hinb).PackedRows (EltTy.packing .bf16)) ∧
  (∀ k0_t63 : Fin (k0_t63_loop v228 v257).trips, ∀ a, (k0_off3095 v1 k0_t51 v228 v257 k0_t63) a + S1x1x1x16x128.size a ≤ S2x2x108x128x128.size a) ∧
  (∀ k0_t63 : Fin (k0_t63_loop v228 v257).trips, ∀ (hinb : ∀ a, (k0_off3095 v1 k0_t51 v228 v257 k0_t63) a + S1x1x1x16x128.size a ≤ S2x2x108x128x128.size a), (Rect.unit (s := S2x2x108x128x128) (k0_off3095 v1 k0_t51 v228 v257 k0_t63) S1x1x1x16x128.size hinb).PackedRows (EltTy.packing .bf16)) ∧
  (∀ k0_t63 : Fin (k0_t63_loop v228 v257).trips, ∀ a, (k0_off3096 v1 k0_t51 v228 v257 k0_t63) a + S1x1x1x32x128.size a ≤ S2x2x8x1728x128.size a) ∧
  (∀ k0_t63 : Fin (k0_t63_loop v228 v257).trips, ∀ a, (k0_off3098 v1 k0_t51 v228 v257 k0_t63) a + S1x1x1x16x128.size a ≤ S2x2x108x128x128.size a) ∧
  (∀ k0_t63 : Fin (k0_t63_loop v228 v257).trips, ∀ (hinb : ∀ a, (k0_off3098 v1 k0_t51 v228 v257 k0_t63) a + S1x1x1x16x128.size a ≤ S2x2x108x128x128.size a), (Rect.unit (s := S2x2x108x128x128) (k0_off3098 v1 k0_t51 v228 v257 k0_t63) S1x1x1x16x128.size hinb).PackedRows (EltTy.packing .bf16)) ∧
  (∀ k0_t63 : Fin (k0_t63_loop v228 v257).trips, ∀ a, (k0_off3100 v1 k0_t51 v228 v257 k0_t63) a + S1x1x1x16x128.size a ≤ S2x2x108x128x128.size a) ∧
  (∀ k0_t63 : Fin (k0_t63_loop v228 v257).trips, ∀ (hinb : ∀ a, (k0_off3100 v1 k0_t51 v228 v257 k0_t63) a + S1x1x1x16x128.size a ≤ S2x2x108x128x128.size a), (Rect.unit (s := S2x2x108x128x128) (k0_off3100 v1 k0_t51 v228 v257 k0_t63) S1x1x1x16x128.size hinb).PackedRows (EltTy.packing .bf16)) ∧
  (∀ k0_t63 : Fin (k0_t63_loop v228 v257).trips, ∀ a, (k0_off3101 v1 k0_t51 v228 v257 k0_t63) a + S1x1x1x32x128.size a ≤ S2x2x8x1728x128.size a) ∧
  (∀ k0_t63 : Fin (k0_t63_loop v228 v257).trips, ∀ a, (k0_off3103 v1 k0_t51 v228 v257 k0_t63) a + S1x1x1x16x128.size a ≤ S2x2x108x128x128.size a) ∧
  (∀ k0_t63 : Fin (k0_t63_loop v228 v257).trips, ∀ (hinb : ∀ a, (k0_off3103 v1 k0_t51 v228 v257 k0_t63) a + S1x1x1x16x128.size a ≤ S2x2x108x128x128.size a), (Rect.unit (s := S2x2x108x128x128) (k0_off3103 v1 k0_t51 v228 v257 k0_t63) S1x1x1x16x128.size hinb).PackedRows (EltTy.packing .bf16)) ∧
  (∀ k0_t63 : Fin (k0_t63_loop v228 v257).trips, ∀ a, (k0_off3105 v1 k0_t51 v228 v257 k0_t63) a + S1x1x1x16x128.size a ≤ S2x2x108x128x128.size a) ∧
  (∀ k0_t63 : Fin (k0_t63_loop v228 v257).trips, ∀ (hinb : ∀ a, (k0_off3105 v1 k0_t51 v228 v257 k0_t63) a + S1x1x1x16x128.size a ≤ S2x2x108x128x128.size a), (Rect.unit (s := S2x2x108x128x128) (k0_off3105 v1 k0_t51 v228 v257 k0_t63) S1x1x1x16x128.size hinb).PackedRows (EltTy.packing .bf16)) ∧
  (∀ k0_t63 : Fin (k0_t63_loop v228 v257).trips, ∀ a, (k0_off3106 v1 k0_t51 v228 v257 k0_t63) a + S1x1x1x32x128.size a ≤ S2x2x8x1728x128.size a) ∧
  (∀ k0_t63 : Fin (k0_t63_loop v228 v257).trips, ∀ a, (k0_off3108 v1 k0_t51 v228 v257 k0_t63) a + S1x1x1x16x128.size a ≤ S2x2x108x128x128.size a) ∧
  (∀ k0_t63 : Fin (k0_t63_loop v228 v257).trips, ∀ (hinb : ∀ a, (k0_off3108 v1 k0_t51 v228 v257 k0_t63) a + S1x1x1x16x128.size a ≤ S2x2x108x128x128.size a), (Rect.unit (s := S2x2x108x128x128) (k0_off3108 v1 k0_t51 v228 v257 k0_t63) S1x1x1x16x128.size hinb).PackedRows (EltTy.packing .bf16)) ∧
  (∀ k0_t63 : Fin (k0_t63_loop v228 v257).trips, ∀ a, (k0_off3110 v1 k0_t51 v228 v257 k0_t63) a + S1x1x1x16x128.size a ≤ S2x2x108x128x128.size a) ∧
  (∀ k0_t63 : Fin (k0_t63_loop v228 v257).trips, ∀ (hinb : ∀ a, (k0_off3110 v1 k0_t51 v228 v257 k0_t63) a + S1x1x1x16x128.size a ≤ S2x2x108x128x128.size a), (Rect.unit (s := S2x2x108x128x128) (k0_off3110 v1 k0_t51 v228 v257 k0_t63) S1x1x1x16x128.size hinb).PackedRows (EltTy.packing .bf16)) ∧
  (∀ k0_t63 : Fin (k0_t63_loop v228 v257).trips, ∀ a, (k0_off3111 v1 k0_t51 v228 v257 k0_t63) a + S1x1x1x32x128.size a ≤ S2x2x8x1728x128.size a) ∧
  (∀ k0_t63 : Fin (k0_t63_loop v228 v257).trips, ∀ a, (k0_off3113 v1 k0_t51 v228 v257 k0_t63) a + S1x1x1x16x128.size a ≤ S2x2x108x128x128.size a) ∧
  (∀ k0_t63 : Fin (k0_t63_loop v228 v257).trips, ∀ (hinb : ∀ a, (k0_off3113 v1 k0_t51 v228 v257 k0_t63) a + S1x1x1x16x128.size a ≤ S2x2x108x128x128.size a), (Rect.unit (s := S2x2x108x128x128) (k0_off3113 v1 k0_t51 v228 v257 k0_t63) S1x1x1x16x128.size hinb).PackedRows (EltTy.packing .bf16))
def k0_chk35_43 (v1 : BitVec 32) (k0_t51 : Fin (k0_t51_loop v1).trips) (v228 : BitVec 32) (v257 : BitVec 32) : Prop :=
  (∀ k0_t63 : Fin (k0_t63_loop v228 v257).trips, ∀ a, (k0_off3115 v1 k0_t51 v228 v257 k0_t63) a + S1x1x1x16x128.size a ≤ S2x2x108x128x128.size a) ∧
  (∀ k0_t63 : Fin (k0_t63_loop v228 v257).trips, ∀ (hinb : ∀ a, (k0_off3115 v1 k0_t51 v228 v257 k0_t63) a + S1x1x1x16x128.size a ≤ S2x2x108x128x128.size a), (Rect.unit (s := S2x2x108x128x128) (k0_off3115 v1 k0_t51 v228 v257 k0_t63) S1x1x1x16x128.size hinb).PackedRows (EltTy.packing .bf16)) ∧
  (∀ k0_t63 : Fin (k0_t63_loop v228 v257).trips, ∀ a, (k0_off3116 v1 k0_t51 v228 v257 k0_t63) a + S1x1x1x32x128.size a ≤ S2x2x8x1728x128.size a) ∧
  (∀ k0_t63 : Fin (k0_t63_loop v228 v257).trips, ∀ a, (k0_off3118 v1 k0_t51 v228 v257 k0_t63) a + S1x1x1x16x128.size a ≤ S2x2x108x128x128.size a) ∧
  (∀ k0_t63 : Fin (k0_t63_loop v228 v257).trips, ∀ (hinb : ∀ a, (k0_off3118 v1 k0_t51 v228 v257 k0_t63) a + S1x1x1x16x128.size a ≤ S2x2x108x128x128.size a), (Rect.unit (s := S2x2x108x128x128) (k0_off3118 v1 k0_t51 v228 v257 k0_t63) S1x1x1x16x128.size hinb).PackedRows (EltTy.packing .bf16)) ∧
  (∀ k0_t63 : Fin (k0_t63_loop v228 v257).trips, ∀ a, (k0_off3120 v1 k0_t51 v228 v257 k0_t63) a + S1x1x1x16x128.size a ≤ S2x2x108x128x128.size a) ∧
  (∀ k0_t63 : Fin (k0_t63_loop v228 v257).trips, ∀ (hinb : ∀ a, (k0_off3120 v1 k0_t51 v228 v257 k0_t63) a + S1x1x1x16x128.size a ≤ S2x2x108x128x128.size a), (Rect.unit (s := S2x2x108x128x128) (k0_off3120 v1 k0_t51 v228 v257 k0_t63) S1x1x1x16x128.size hinb).PackedRows (EltTy.packing .bf16)) ∧
  (∀ k0_t63 : Fin (k0_t63_loop v228 v257).trips, ∀ a, (k0_off3121 v1 k0_t51 v228 v257 k0_t63) a + S1x1x1x32x128.size a ≤ S2x2x8x1728x128.size a) ∧
  (∀ k0_t63 : Fin (k0_t63_loop v228 v257).trips, ∀ a, (k0_off3123 v1 k0_t51 v228 v257 k0_t63) a + S1x1x1x16x128.size a ≤ S2x2x108x128x128.size a) ∧
  (∀ k0_t63 : Fin (k0_t63_loop v228 v257).trips, ∀ (hinb : ∀ a, (k0_off3123 v1 k0_t51 v228 v257 k0_t63) a + S1x1x1x16x128.size a ≤ S2x2x108x128x128.size a), (Rect.unit (s := S2x2x108x128x128) (k0_off3123 v1 k0_t51 v228 v257 k0_t63) S1x1x1x16x128.size hinb).PackedRows (EltTy.packing .bf16)) ∧
  (∀ k0_t63 : Fin (k0_t63_loop v228 v257).trips, ∀ a, (k0_off3125 v1 k0_t51 v228 v257 k0_t63) a + S1x1x1x16x128.size a ≤ S2x2x108x128x128.size a) ∧
  (∀ k0_t63 : Fin (k0_t63_loop v228 v257).trips, ∀ (hinb : ∀ a, (k0_off3125 v1 k0_t51 v228 v257 k0_t63) a + S1x1x1x16x128.size a ≤ S2x2x108x128x128.size a), (Rect.unit (s := S2x2x108x128x128) (k0_off3125 v1 k0_t51 v228 v257 k0_t63) S1x1x1x16x128.size hinb).PackedRows (EltTy.packing .bf16)) ∧
  (∀ k0_t63 : Fin (k0_t63_loop v228 v257).trips, ∀ a, (k0_off3126 v1 k0_t51 v228 v257 k0_t63) a + S1x1x1x32x128.size a ≤ S2x2x8x1728x128.size a) ∧
  (∀ k0_t63 : Fin (k0_t63_loop v228 v257).trips, ∀ a, (k0_off3128 v1 k0_t51 v228 v257 k0_t63) a + S1x1x1x16x128.size a ≤ S2x2x108x128x128.size a) ∧
  (∀ k0_t63 : Fin (k0_t63_loop v228 v257).trips, ∀ (hinb : ∀ a, (k0_off3128 v1 k0_t51 v228 v257 k0_t63) a + S1x1x1x16x128.size a ≤ S2x2x108x128x128.size a), (Rect.unit (s := S2x2x108x128x128) (k0_off3128 v1 k0_t51 v228 v257 k0_t63) S1x1x1x16x128.size hinb).PackedRows (EltTy.packing .bf16)) ∧
  (∀ k0_t63 : Fin (k0_t63_loop v228 v257).trips, ∀ a, (k0_off3130 v1 k0_t51 v228 v257 k0_t63) a + S1x1x1x16x128.size a ≤ S2x2x108x128x128.size a) ∧
  (∀ k0_t63 : Fin (k0_t63_loop v228 v257).trips, ∀ (hinb : ∀ a, (k0_off3130 v1 k0_t51 v228 v257 k0_t63) a + S1x1x1x16x128.size a ≤ S2x2x108x128x128.size a), (Rect.unit (s := S2x2x108x128x128) (k0_off3130 v1 k0_t51 v228 v257 k0_t63) S1x1x1x16x128.size hinb).PackedRows (EltTy.packing .bf16)) ∧
  (∀ k0_t63 : Fin (k0_t63_loop v228 v257).trips, ∀ a, (k0_off3131 v1 k0_t51 v228 v257 k0_t63) a + S1x1x1x32x128.size a ≤ S2x2x8x1728x128.size a) ∧
  (∀ k0_t63 : Fin (k0_t63_loop v228 v257).trips, ∀ a, (k0_off3133 v1 k0_t51 v228 v257 k0_t63) a + S1x1x1x16x128.size a ≤ S2x2x108x128x128.size a) ∧
  (∀ k0_t63 : Fin (k0_t63_loop v228 v257).trips, ∀ (hinb : ∀ a, (k0_off3133 v1 k0_t51 v228 v257 k0_t63) a + S1x1x1x16x128.size a ≤ S2x2x108x128x128.size a), (Rect.unit (s := S2x2x108x128x128) (k0_off3133 v1 k0_t51 v228 v257 k0_t63) S1x1x1x16x128.size hinb).PackedRows (EltTy.packing .bf16)) ∧
  (∀ k0_t63 : Fin (k0_t63_loop v228 v257).trips, ∀ a, (k0_off3135 v1 k0_t51 v228 v257 k0_t63) a + S1x1x1x16x128.size a ≤ S2x2x108x128x128.size a) ∧
  (∀ k0_t63 : Fin (k0_t63_loop v228 v257).trips, ∀ (hinb : ∀ a, (k0_off3135 v1 k0_t51 v228 v257 k0_t63) a + S1x1x1x16x128.size a ≤ S2x2x108x128x128.size a), (Rect.unit (s := S2x2x108x128x128) (k0_off3135 v1 k0_t51 v228 v257 k0_t63) S1x1x1x16x128.size hinb).PackedRows (EltTy.packing .bf16)) ∧
  (∀ k0_t63 : Fin (k0_t63_loop v228 v257).trips, ∀ a, (k0_off3136 v1 k0_t51 v228 v257 k0_t63) a + S1x1x1x32x128.size a ≤ S2x2x8x1728x128.size a) ∧
  (∀ k0_t63 : Fin (k0_t63_loop v228 v257).trips, ∀ a, (k0_off3138 v1 k0_t51 v228 v257 k0_t63) a + S1x1x1x16x128.size a ≤ S2x2x108x128x128.size a) ∧
  (∀ k0_t63 : Fin (k0_t63_loop v228 v257).trips, ∀ (hinb : ∀ a, (k0_off3138 v1 k0_t51 v228 v257 k0_t63) a + S1x1x1x16x128.size a ≤ S2x2x108x128x128.size a), (Rect.unit (s := S2x2x108x128x128) (k0_off3138 v1 k0_t51 v228 v257 k0_t63) S1x1x1x16x128.size hinb).PackedRows (EltTy.packing .bf16)) ∧
  (∀ k0_t63 : Fin (k0_t63_loop v228 v257).trips, ∀ a, (k0_off3140 v1 k0_t51 v228 v257 k0_t63) a + S1x1x1x16x128.size a ≤ S2x2x108x128x128.size a) ∧
  (∀ k0_t63 : Fin (k0_t63_loop v228 v257).trips, ∀ (hinb : ∀ a, (k0_off3140 v1 k0_t51 v228 v257 k0_t63) a + S1x1x1x16x128.size a ≤ S2x2x108x128x128.size a), (Rect.unit (s := S2x2x108x128x128) (k0_off3140 v1 k0_t51 v228 v257 k0_t63) S1x1x1x16x128.size hinb).PackedRows (EltTy.packing .bf16)) ∧
  (∀ k0_t63 : Fin (k0_t63_loop v228 v257).trips, ∀ a, (k0_off3141 v1 k0_t51 v228 v257 k0_t63) a + S1x1x1x32x128.size a ≤ S2x2x8x1728x128.size a) ∧
  (∀ k0_t63 : Fin (k0_t63_loop v228 v257).trips, ∀ a, (k0_off3143 v1 k0_t51 v228 v257 k0_t63) a + S1x1x1x16x128.size a ≤ S2x2x108x128x128.size a) ∧
  (∀ k0_t63 : Fin (k0_t63_loop v228 v257).trips, ∀ (hinb : ∀ a, (k0_off3143 v1 k0_t51 v228 v257 k0_t63) a + S1x1x1x16x128.size a ≤ S2x2x108x128x128.size a), (Rect.unit (s := S2x2x108x128x128) (k0_off3143 v1 k0_t51 v228 v257 k0_t63) S1x1x1x16x128.size hinb).PackedRows (EltTy.packing .bf16)) ∧
  (∀ k0_t63 : Fin (k0_t63_loop v228 v257).trips, ∀ a, (k0_off3145 v1 k0_t51 v228 v257 k0_t63) a + S1x1x1x16x128.size a ≤ S2x2x108x128x128.size a) ∧
  (∀ k0_t63 : Fin (k0_t63_loop v228 v257).trips, ∀ (hinb : ∀ a, (k0_off3145 v1 k0_t51 v228 v257 k0_t63) a + S1x1x1x16x128.size a ≤ S2x2x108x128x128.size a), (Rect.unit (s := S2x2x108x128x128) (k0_off3145 v1 k0_t51 v228 v257 k0_t63) S1x1x1x16x128.size hinb).PackedRows (EltTy.packing .bf16))
def k0_chk35_44 (v1 : BitVec 32) (k0_t51 : Fin (k0_t51_loop v1).trips) (v228 : BitVec 32) (v257 : BitVec 32) : Prop :=
  (∀ k0_t63 : Fin (k0_t63_loop v228 v257).trips, ∀ a, (k0_off3146 v1 k0_t51 v228 v257 k0_t63) a + S1x1x1x32x128.size a ≤ S2x2x8x1728x128.size a) ∧
  (∀ k0_t63 : Fin (k0_t63_loop v228 v257).trips, ∀ a, (k0_off3148 v1 k0_t51 v228 v257 k0_t63) a + S1x1x1x16x128.size a ≤ S2x2x108x128x128.size a) ∧
  (∀ k0_t63 : Fin (k0_t63_loop v228 v257).trips, ∀ (hinb : ∀ a, (k0_off3148 v1 k0_t51 v228 v257 k0_t63) a + S1x1x1x16x128.size a ≤ S2x2x108x128x128.size a), (Rect.unit (s := S2x2x108x128x128) (k0_off3148 v1 k0_t51 v228 v257 k0_t63) S1x1x1x16x128.size hinb).PackedRows (EltTy.packing .bf16)) ∧
  (∀ k0_t63 : Fin (k0_t63_loop v228 v257).trips, ∀ a, (k0_off3150 v1 k0_t51 v228 v257 k0_t63) a + S1x1x1x16x128.size a ≤ S2x2x108x128x128.size a) ∧
  (∀ k0_t63 : Fin (k0_t63_loop v228 v257).trips, ∀ (hinb : ∀ a, (k0_off3150 v1 k0_t51 v228 v257 k0_t63) a + S1x1x1x16x128.size a ≤ S2x2x108x128x128.size a), (Rect.unit (s := S2x2x108x128x128) (k0_off3150 v1 k0_t51 v228 v257 k0_t63) S1x1x1x16x128.size hinb).PackedRows (EltTy.packing .bf16)) ∧
  (∀ k0_t63 : Fin (k0_t63_loop v228 v257).trips, ∀ a, (k0_off3151 v1 k0_t51 v228 v257 k0_t63) a + S1x1x1x32x128.size a ≤ S2x2x8x1728x128.size a) ∧
  (∀ k0_t63 : Fin (k0_t63_loop v228 v257).trips, ∀ a, (k0_off3153 v1 k0_t51 v228 v257 k0_t63) a + S1x1x1x16x128.size a ≤ S2x2x108x128x128.size a) ∧
  (∀ k0_t63 : Fin (k0_t63_loop v228 v257).trips, ∀ (hinb : ∀ a, (k0_off3153 v1 k0_t51 v228 v257 k0_t63) a + S1x1x1x16x128.size a ≤ S2x2x108x128x128.size a), (Rect.unit (s := S2x2x108x128x128) (k0_off3153 v1 k0_t51 v228 v257 k0_t63) S1x1x1x16x128.size hinb).PackedRows (EltTy.packing .bf16)) ∧
  (∀ k0_t63 : Fin (k0_t63_loop v228 v257).trips, ∀ a, (k0_off3155 v1 k0_t51 v228 v257 k0_t63) a + S1x1x1x16x128.size a ≤ S2x2x108x128x128.size a) ∧
  (∀ k0_t63 : Fin (k0_t63_loop v228 v257).trips, ∀ (hinb : ∀ a, (k0_off3155 v1 k0_t51 v228 v257 k0_t63) a + S1x1x1x16x128.size a ≤ S2x2x108x128x128.size a), (Rect.unit (s := S2x2x108x128x128) (k0_off3155 v1 k0_t51 v228 v257 k0_t63) S1x1x1x16x128.size hinb).PackedRows (EltTy.packing .bf16)) ∧
  (∀ k0_t63 : Fin (k0_t63_loop v228 v257).trips, ∀ a, (k0_off3156 v1 k0_t51 v228 v257 k0_t63) a + S1x1x1x32x128.size a ≤ S2x2x8x1728x128.size a) ∧
  (∀ k0_t63 : Fin (k0_t63_loop v228 v257).trips, ∀ a, (k0_off3158 v1 k0_t51 v228 v257 k0_t63) a + S1x1x1x16x128.size a ≤ S2x2x108x128x128.size a) ∧
  (∀ k0_t63 : Fin (k0_t63_loop v228 v257).trips, ∀ (hinb : ∀ a, (k0_off3158 v1 k0_t51 v228 v257 k0_t63) a + S1x1x1x16x128.size a ≤ S2x2x108x128x128.size a), (Rect.unit (s := S2x2x108x128x128) (k0_off3158 v1 k0_t51 v228 v257 k0_t63) S1x1x1x16x128.size hinb).PackedRows (EltTy.packing .bf16)) ∧
  (∀ k0_t63 : Fin (k0_t63_loop v228 v257).trips, ∀ a, (k0_off3160 v1 k0_t51 v228 v257 k0_t63) a + S1x1x1x16x128.size a ≤ S2x2x108x128x128.size a) ∧
  (∀ k0_t63 : Fin (k0_t63_loop v228 v257).trips, ∀ (hinb : ∀ a, (k0_off3160 v1 k0_t51 v228 v257 k0_t63) a + S1x1x1x16x128.size a ≤ S2x2x108x128x128.size a), (Rect.unit (s := S2x2x108x128x128) (k0_off3160 v1 k0_t51 v228 v257 k0_t63) S1x1x1x16x128.size hinb).PackedRows (EltTy.packing .bf16)) ∧
  (∀ k0_t63 : Fin (k0_t63_loop v228 v257).trips, ∀ a, (k0_off3161 v1 k0_t51 v228 v257 k0_t63) a + S1x1x1x32x128.size a ≤ S2x2x8x1728x128.size a) ∧
  (∀ k0_t63 : Fin (k0_t63_loop v228 v257).trips, ∀ a, (k0_off3163 v1 k0_t51 v228 v257 k0_t63) a + S1x1x1x16x128.size a ≤ S2x2x108x128x128.size a) ∧
  (∀ k0_t63 : Fin (k0_t63_loop v228 v257).trips, ∀ (hinb : ∀ a, (k0_off3163 v1 k0_t51 v228 v257 k0_t63) a + S1x1x1x16x128.size a ≤ S2x2x108x128x128.size a), (Rect.unit (s := S2x2x108x128x128) (k0_off3163 v1 k0_t51 v228 v257 k0_t63) S1x1x1x16x128.size hinb).PackedRows (EltTy.packing .bf16)) ∧
  (∀ k0_t63 : Fin (k0_t63_loop v228 v257).trips, ∀ a, (k0_off3165 v1 k0_t51 v228 v257 k0_t63) a + S1x1x1x16x128.size a ≤ S2x2x108x128x128.size a) ∧
  (∀ k0_t63 : Fin (k0_t63_loop v228 v257).trips, ∀ (hinb : ∀ a, (k0_off3165 v1 k0_t51 v228 v257 k0_t63) a + S1x1x1x16x128.size a ≤ S2x2x108x128x128.size a), (Rect.unit (s := S2x2x108x128x128) (k0_off3165 v1 k0_t51 v228 v257 k0_t63) S1x1x1x16x128.size hinb).PackedRows (EltTy.packing .bf16)) ∧
  (∀ k0_t63 : Fin (k0_t63_loop v228 v257).trips, ∀ a, (k0_off3166 v1 k0_t51 v228 v257 k0_t63) a + S1x1x1x32x128.size a ≤ S2x2x8x1728x128.size a) ∧
  (∀ k0_t63 : Fin (k0_t63_loop v228 v257).trips, ∀ a, (k0_off3168 v1 k0_t51 v228 v257 k0_t63) a + S1x1x1x16x128.size a ≤ S2x2x108x128x128.size a) ∧
  (∀ k0_t63 : Fin (k0_t63_loop v228 v257).trips, ∀ (hinb : ∀ a, (k0_off3168 v1 k0_t51 v228 v257 k0_t63) a + S1x1x1x16x128.size a ≤ S2x2x108x128x128.size a), (Rect.unit (s := S2x2x108x128x128) (k0_off3168 v1 k0_t51 v228 v257 k0_t63) S1x1x1x16x128.size hinb).PackedRows (EltTy.packing .bf16)) ∧
  (∀ k0_t63 : Fin (k0_t63_loop v228 v257).trips, ∀ a, (k0_off3170 v1 k0_t51 v228 v257 k0_t63) a + S1x1x1x16x128.size a ≤ S2x2x108x128x128.size a) ∧
  (∀ k0_t63 : Fin (k0_t63_loop v228 v257).trips, ∀ (hinb : ∀ a, (k0_off3170 v1 k0_t51 v228 v257 k0_t63) a + S1x1x1x16x128.size a ≤ S2x2x108x128x128.size a), (Rect.unit (s := S2x2x108x128x128) (k0_off3170 v1 k0_t51 v228 v257 k0_t63) S1x1x1x16x128.size hinb).PackedRows (EltTy.packing .bf16)) ∧
  (∀ k0_t63 : Fin (k0_t63_loop v228 v257).trips, ∀ a, (k0_off3171 v1 k0_t51 v228 v257 k0_t63) a + S1x1x1x32x128.size a ≤ S2x2x8x1728x128.size a) ∧
  (∀ k0_t63 : Fin (k0_t63_loop v228 v257).trips, ∀ a, (k0_off3173 v1 k0_t51 v228 v257 k0_t63) a + S1x1x1x16x128.size a ≤ S2x2x108x128x128.size a) ∧
  (∀ k0_t63 : Fin (k0_t63_loop v228 v257).trips, ∀ (hinb : ∀ a, (k0_off3173 v1 k0_t51 v228 v257 k0_t63) a + S1x1x1x16x128.size a ≤ S2x2x108x128x128.size a), (Rect.unit (s := S2x2x108x128x128) (k0_off3173 v1 k0_t51 v228 v257 k0_t63) S1x1x1x16x128.size hinb).PackedRows (EltTy.packing .bf16)) ∧
  (∀ k0_t63 : Fin (k0_t63_loop v228 v257).trips, ∀ a, (k0_off3175 v1 k0_t51 v228 v257 k0_t63) a + S1x1x1x16x128.size a ≤ S2x2x108x128x128.size a) ∧
  (∀ k0_t63 : Fin (k0_t63_loop v228 v257).trips, ∀ (hinb : ∀ a, (k0_off3175 v1 k0_t51 v228 v257 k0_t63) a + S1x1x1x16x128.size a ≤ S2x2x108x128x128.size a), (Rect.unit (s := S2x2x108x128x128) (k0_off3175 v1 k0_t51 v228 v257 k0_t63) S1x1x1x16x128.size hinb).PackedRows (EltTy.packing .bf16)) ∧
  (∀ k0_t63 : Fin (k0_t63_loop v228 v257).trips, ∀ a, (k0_off3176 v1 k0_t51 v228 v257 k0_t63) a + S1x1x1x32x128.size a ≤ S2x2x8x1728x128.size a) ∧
  (∀ k0_t63 : Fin (k0_t63_loop v228 v257).trips, ∀ a, (k0_off3178 v1 k0_t51 v228 v257 k0_t63) a + S1x1x1x16x128.size a ≤ S2x2x108x128x128.size a)
def k0_chk35_45 (v1 : BitVec 32) (k0_t51 : Fin (k0_t51_loop v1).trips) (v228 : BitVec 32) (v257 : BitVec 32) : Prop :=
  (∀ k0_t63 : Fin (k0_t63_loop v228 v257).trips, ∀ (hinb : ∀ a, (k0_off3178 v1 k0_t51 v228 v257 k0_t63) a + S1x1x1x16x128.size a ≤ S2x2x108x128x128.size a), (Rect.unit (s := S2x2x108x128x128) (k0_off3178 v1 k0_t51 v228 v257 k0_t63) S1x1x1x16x128.size hinb).PackedRows (EltTy.packing .bf16)) ∧
  (∀ k0_t63 : Fin (k0_t63_loop v228 v257).trips, ∀ a, (k0_off3180 v1 k0_t51 v228 v257 k0_t63) a + S1x1x1x16x128.size a ≤ S2x2x108x128x128.size a) ∧
  (∀ k0_t63 : Fin (k0_t63_loop v228 v257).trips, ∀ (hinb : ∀ a, (k0_off3180 v1 k0_t51 v228 v257 k0_t63) a + S1x1x1x16x128.size a ≤ S2x2x108x128x128.size a), (Rect.unit (s := S2x2x108x128x128) (k0_off3180 v1 k0_t51 v228 v257 k0_t63) S1x1x1x16x128.size hinb).PackedRows (EltTy.packing .bf16)) ∧
  (∀ k0_t63 : Fin (k0_t63_loop v228 v257).trips, ∀ a, (k0_off3181 v1 k0_t51 v228 v257 k0_t63) a + S1x1x1x32x128.size a ≤ S2x2x8x1728x128.size a) ∧
  (∀ k0_t63 : Fin (k0_t63_loop v228 v257).trips, ∀ a, (k0_off3183 v1 k0_t51 v228 v257 k0_t63) a + S1x1x1x16x128.size a ≤ S2x2x108x128x128.size a) ∧
  (∀ k0_t63 : Fin (k0_t63_loop v228 v257).trips, ∀ (hinb : ∀ a, (k0_off3183 v1 k0_t51 v228 v257 k0_t63) a + S1x1x1x16x128.size a ≤ S2x2x108x128x128.size a), (Rect.unit (s := S2x2x108x128x128) (k0_off3183 v1 k0_t51 v228 v257 k0_t63) S1x1x1x16x128.size hinb).PackedRows (EltTy.packing .bf16)) ∧
  (∀ k0_t63 : Fin (k0_t63_loop v228 v257).trips, ∀ a, (k0_off3185 v1 k0_t51 v228 v257 k0_t63) a + S1x1x1x16x128.size a ≤ S2x2x108x128x128.size a) ∧
  (∀ k0_t63 : Fin (k0_t63_loop v228 v257).trips, ∀ (hinb : ∀ a, (k0_off3185 v1 k0_t51 v228 v257 k0_t63) a + S1x1x1x16x128.size a ≤ S2x2x108x128x128.size a), (Rect.unit (s := S2x2x108x128x128) (k0_off3185 v1 k0_t51 v228 v257 k0_t63) S1x1x1x16x128.size hinb).PackedRows (EltTy.packing .bf16)) ∧
  (∀ k0_t63 : Fin (k0_t63_loop v228 v257).trips, ∀ a, (k0_off3186 v1 k0_t51 v228 v257 k0_t63) a + S1x1x1x32x128.size a ≤ S2x2x8x1728x128.size a) ∧
  (∀ k0_t63 : Fin (k0_t63_loop v228 v257).trips, ∀ a, (k0_off3188 v1 k0_t51 v228 v257 k0_t63) a + S1x1x1x16x128.size a ≤ S2x2x108x128x128.size a) ∧
  (∀ k0_t63 : Fin (k0_t63_loop v228 v257).trips, ∀ (hinb : ∀ a, (k0_off3188 v1 k0_t51 v228 v257 k0_t63) a + S1x1x1x16x128.size a ≤ S2x2x108x128x128.size a), (Rect.unit (s := S2x2x108x128x128) (k0_off3188 v1 k0_t51 v228 v257 k0_t63) S1x1x1x16x128.size hinb).PackedRows (EltTy.packing .bf16)) ∧
  (∀ k0_t63 : Fin (k0_t63_loop v228 v257).trips, ∀ a, (k0_off3190 v1 k0_t51 v228 v257 k0_t63) a + S1x1x1x16x128.size a ≤ S2x2x108x128x128.size a) ∧
  (∀ k0_t63 : Fin (k0_t63_loop v228 v257).trips, ∀ (hinb : ∀ a, (k0_off3190 v1 k0_t51 v228 v257 k0_t63) a + S1x1x1x16x128.size a ≤ S2x2x108x128x128.size a), (Rect.unit (s := S2x2x108x128x128) (k0_off3190 v1 k0_t51 v228 v257 k0_t63) S1x1x1x16x128.size hinb).PackedRows (EltTy.packing .bf16)) ∧
  (∀ k0_t63 : Fin (k0_t63_loop v228 v257).trips, ∀ a, (k0_off3191 v1 k0_t51 v228 v257 k0_t63) a + S1x1x1x32x128.size a ≤ S2x2x8x1728x128.size a) ∧
  (∀ k0_t63 : Fin (k0_t63_loop v228 v257).trips, ∀ a, (k0_off3193 v1 k0_t51 v228 v257 k0_t63) a + S1x1x1x16x128.size a ≤ S2x2x108x128x128.size a) ∧
  (∀ k0_t63 : Fin (k0_t63_loop v228 v257).trips, ∀ (hinb : ∀ a, (k0_off3193 v1 k0_t51 v228 v257 k0_t63) a + S1x1x1x16x128.size a ≤ S2x2x108x128x128.size a), (Rect.unit (s := S2x2x108x128x128) (k0_off3193 v1 k0_t51 v228 v257 k0_t63) S1x1x1x16x128.size hinb).PackedRows (EltTy.packing .bf16)) ∧
  (∀ k0_t63 : Fin (k0_t63_loop v228 v257).trips, ∀ a, (k0_off3195 v1 k0_t51 v228 v257 k0_t63) a + S1x1x1x16x128.size a ≤ S2x2x108x128x128.size a) ∧
  (∀ k0_t63 : Fin (k0_t63_loop v228 v257).trips, ∀ (hinb : ∀ a, (k0_off3195 v1 k0_t51 v228 v257 k0_t63) a + S1x1x1x16x128.size a ≤ S2x2x108x128x128.size a), (Rect.unit (s := S2x2x108x128x128) (k0_off3195 v1 k0_t51 v228 v257 k0_t63) S1x1x1x16x128.size hinb).PackedRows (EltTy.packing .bf16)) ∧
  (∀ k0_t63 : Fin (k0_t63_loop v228 v257).trips, ∀ a, (k0_off3196 v1 k0_t51 v228 v257 k0_t63) a + S1x1x1x32x128.size a ≤ S2x2x8x1728x128.size a) ∧
  (∀ k0_t63 : Fin (k0_t63_loop v228 v257).trips, ∀ a, (k0_off3198 v1 k0_t51 v228 v257 k0_t63) a + S1x1x1x16x128.size a ≤ S2x2x108x128x128.size a) ∧
  (∀ k0_t63 : Fin (k0_t63_loop v228 v257).trips, ∀ (hinb : ∀ a, (k0_off3198 v1 k0_t51 v228 v257 k0_t63) a + S1x1x1x16x128.size a ≤ S2x2x108x128x128.size a), (Rect.unit (s := S2x2x108x128x128) (k0_off3198 v1 k0_t51 v228 v257 k0_t63) S1x1x1x16x128.size hinb).PackedRows (EltTy.packing .bf16)) ∧
  (∀ k0_t63 : Fin (k0_t63_loop v228 v257).trips, ∀ a, (k0_off3200 v1 k0_t51 v228 v257 k0_t63) a + S1x1x1x16x128.size a ≤ S2x2x108x128x128.size a) ∧
  (∀ k0_t63 : Fin (k0_t63_loop v228 v257).trips, ∀ (hinb : ∀ a, (k0_off3200 v1 k0_t51 v228 v257 k0_t63) a + S1x1x1x16x128.size a ≤ S2x2x108x128x128.size a), (Rect.unit (s := S2x2x108x128x128) (k0_off3200 v1 k0_t51 v228 v257 k0_t63) S1x1x1x16x128.size hinb).PackedRows (EltTy.packing .bf16)) ∧
  (∀ k0_t63 : Fin (k0_t63_loop v228 v257).trips, ∀ a, (k0_off3201 v1 k0_t51 v228 v257 k0_t63) a + S1x1x1x32x128.size a ≤ S2x2x8x1728x128.size a) ∧
  (∀ k0_t63 : Fin (k0_t63_loop v228 v257).trips, ∀ a, (k0_off3203 v1 k0_t51 v228 v257 k0_t63) a + S1x1x1x16x128.size a ≤ S2x2x108x128x128.size a) ∧
  (∀ k0_t63 : Fin (k0_t63_loop v228 v257).trips, ∀ (hinb : ∀ a, (k0_off3203 v1 k0_t51 v228 v257 k0_t63) a + S1x1x1x16x128.size a ≤ S2x2x108x128x128.size a), (Rect.unit (s := S2x2x108x128x128) (k0_off3203 v1 k0_t51 v228 v257 k0_t63) S1x1x1x16x128.size hinb).PackedRows (EltTy.packing .bf16)) ∧
  (∀ k0_t63 : Fin (k0_t63_loop v228 v257).trips, ∀ a, (k0_off3205 v1 k0_t51 v228 v257 k0_t63) a + S1x1x1x16x128.size a ≤ S2x2x108x128x128.size a) ∧
  (∀ k0_t63 : Fin (k0_t63_loop v228 v257).trips, ∀ (hinb : ∀ a, (k0_off3205 v1 k0_t51 v228 v257 k0_t63) a + S1x1x1x16x128.size a ≤ S2x2x108x128x128.size a), (Rect.unit (s := S2x2x108x128x128) (k0_off3205 v1 k0_t51 v228 v257 k0_t63) S1x1x1x16x128.size hinb).PackedRows (EltTy.packing .bf16)) ∧
  (∀ k0_t63 : Fin (k0_t63_loop v228 v257).trips, ∀ a, (k0_off3206 v1 k0_t51 v228 v257 k0_t63) a + S1x1x1x32x128.size a ≤ S2x2x8x1728x128.size a) ∧
  (∀ k0_t63 : Fin (k0_t63_loop v228 v257).trips, ∀ a, (k0_off3208 v1 k0_t51 v228 v257 k0_t63) a + S1x1x1x16x128.size a ≤ S2x2x108x128x128.size a) ∧
  (∀ k0_t63 : Fin (k0_t63_loop v228 v257).trips, ∀ (hinb : ∀ a, (k0_off3208 v1 k0_t51 v228 v257 k0_t63) a + S1x1x1x16x128.size a ≤ S2x2x108x128x128.size a), (Rect.unit (s := S2x2x108x128x128) (k0_off3208 v1 k0_t51 v228 v257 k0_t63) S1x1x1x16x128.size hinb).PackedRows (EltTy.packing .bf16)) ∧
  (∀ k0_t63 : Fin (k0_t63_loop v228 v257).trips, ∀ a, (k0_off3210 v1 k0_t51 v228 v257 k0_t63) a + S1x1x1x16x128.size a ≤ S2x2x108x128x128.size a)
def k0_chk35_46 (v1 : BitVec 32) (k0_t51 : Fin (k0_t51_loop v1).trips) (v228 : BitVec 32) (v257 : BitVec 32) : Prop :=
  (∀ k0_t63 : Fin (k0_t63_loop v228 v257).trips, ∀ (hinb : ∀ a, (k0_off3210 v1 k0_t51 v228 v257 k0_t63) a + S1x1x1x16x128.size a ≤ S2x2x108x128x128.size a), (Rect.unit (s := S2x2x108x128x128) (k0_off3210 v1 k0_t51 v228 v257 k0_t63) S1x1x1x16x128.size hinb).PackedRows (EltTy.packing .bf16)) ∧
  (∀ k0_t63 : Fin (k0_t63_loop v228 v257).trips, ∀ a, (k0_off3211 v1 k0_t51 v228 v257 k0_t63) a + S1x1x1x32x128.size a ≤ S2x2x8x1728x128.size a) ∧
  (∀ k0_t63 : Fin (k0_t63_loop v228 v257).trips, ∀ a, (k0_off3213 v1 k0_t51 v228 v257 k0_t63) a + S1x1x1x16x128.size a ≤ S2x2x108x128x128.size a) ∧
  (∀ k0_t63 : Fin (k0_t63_loop v228 v257).trips, ∀ (hinb : ∀ a, (k0_off3213 v1 k0_t51 v228 v257 k0_t63) a + S1x1x1x16x128.size a ≤ S2x2x108x128x128.size a), (Rect.unit (s := S2x2x108x128x128) (k0_off3213 v1 k0_t51 v228 v257 k0_t63) S1x1x1x16x128.size hinb).PackedRows (EltTy.packing .bf16)) ∧
  (∀ k0_t63 : Fin (k0_t63_loop v228 v257).trips, ∀ a, (k0_off3215 v1 k0_t51 v228 v257 k0_t63) a + S1x1x1x16x128.size a ≤ S2x2x108x128x128.size a) ∧
  (∀ k0_t63 : Fin (k0_t63_loop v228 v257).trips, ∀ (hinb : ∀ a, (k0_off3215 v1 k0_t51 v228 v257 k0_t63) a + S1x1x1x16x128.size a ≤ S2x2x108x128x128.size a), (Rect.unit (s := S2x2x108x128x128) (k0_off3215 v1 k0_t51 v228 v257 k0_t63) S1x1x1x16x128.size hinb).PackedRows (EltTy.packing .bf16)) ∧
  (∀ k0_t63 : Fin (k0_t63_loop v228 v257).trips, ∀ a, (k0_off3216 v1 k0_t51 v228 v257 k0_t63) a + S1x1x1x32x128.size a ≤ S2x2x8x1728x128.size a) ∧
  (∀ k0_t63 : Fin (k0_t63_loop v228 v257).trips, ∀ a, (k0_off3218 v1 k0_t51 v228 v257 k0_t63) a + S1x1x1x16x128.size a ≤ S2x2x108x128x128.size a) ∧
  (∀ k0_t63 : Fin (k0_t63_loop v228 v257).trips, ∀ (hinb : ∀ a, (k0_off3218 v1 k0_t51 v228 v257 k0_t63) a + S1x1x1x16x128.size a ≤ S2x2x108x128x128.size a), (Rect.unit (s := S2x2x108x128x128) (k0_off3218 v1 k0_t51 v228 v257 k0_t63) S1x1x1x16x128.size hinb).PackedRows (EltTy.packing .bf16)) ∧
  (∀ k0_t63 : Fin (k0_t63_loop v228 v257).trips, ∀ a, (k0_off3220 v1 k0_t51 v228 v257 k0_t63) a + S1x1x1x16x128.size a ≤ S2x2x108x128x128.size a) ∧
  (∀ k0_t63 : Fin (k0_t63_loop v228 v257).trips, ∀ (hinb : ∀ a, (k0_off3220 v1 k0_t51 v228 v257 k0_t63) a + S1x1x1x16x128.size a ≤ S2x2x108x128x128.size a), (Rect.unit (s := S2x2x108x128x128) (k0_off3220 v1 k0_t51 v228 v257 k0_t63) S1x1x1x16x128.size hinb).PackedRows (EltTy.packing .bf16)) ∧
  (∀ k0_t63 : Fin (k0_t63_loop v228 v257).trips, ∀ a, (k0_off3221 v1 k0_t51 v228 v257 k0_t63) a + S1x1x1x32x128.size a ≤ S2x2x8x1728x128.size a) ∧
  (∀ k0_t63 : Fin (k0_t63_loop v228 v257).trips, ∀ a, (k0_off3223 v1 k0_t51 v228 v257 k0_t63) a + S1x1x1x16x128.size a ≤ S2x2x108x128x128.size a) ∧
  (∀ k0_t63 : Fin (k0_t63_loop v228 v257).trips, ∀ (hinb : ∀ a, (k0_off3223 v1 k0_t51 v228 v257 k0_t63) a + S1x1x1x16x128.size a ≤ S2x2x108x128x128.size a), (Rect.unit (s := S2x2x108x128x128) (k0_off3223 v1 k0_t51 v228 v257 k0_t63) S1x1x1x16x128.size hinb).PackedRows (EltTy.packing .bf16)) ∧
  (∀ k0_t63 : Fin (k0_t63_loop v228 v257).trips, ∀ a, (k0_off3225 v1 k0_t51 v228 v257 k0_t63) a + S1x1x1x16x128.size a ≤ S2x2x108x128x128.size a) ∧
  (∀ k0_t63 : Fin (k0_t63_loop v228 v257).trips, ∀ (hinb : ∀ a, (k0_off3225 v1 k0_t51 v228 v257 k0_t63) a + S1x1x1x16x128.size a ≤ S2x2x108x128x128.size a), (Rect.unit (s := S2x2x108x128x128) (k0_off3225 v1 k0_t51 v228 v257 k0_t63) S1x1x1x16x128.size hinb).PackedRows (EltTy.packing .bf16)) ∧
  (∀ k0_t63 : Fin (k0_t63_loop v228 v257).trips, ∀ a, (k0_off3226 v1 k0_t51 v228 v257 k0_t63) a + S1x1x1x32x128.size a ≤ S2x2x8x1728x128.size a) ∧
  (∀ k0_t63 : Fin (k0_t63_loop v228 v257).trips, ∀ a, (k0_off3228 v1 k0_t51 v228 v257 k0_t63) a + S1x1x1x16x128.size a ≤ S2x2x108x128x128.size a) ∧
  (∀ k0_t63 : Fin (k0_t63_loop v228 v257).trips, ∀ (hinb : ∀ a, (k0_off3228 v1 k0_t51 v228 v257 k0_t63) a + S1x1x1x16x128.size a ≤ S2x2x108x128x128.size a), (Rect.unit (s := S2x2x108x128x128) (k0_off3228 v1 k0_t51 v228 v257 k0_t63) S1x1x1x16x128.size hinb).PackedRows (EltTy.packing .bf16)) ∧
  (∀ k0_t63 : Fin (k0_t63_loop v228 v257).trips, ∀ a, (k0_off3230 v1 k0_t51 v228 v257 k0_t63) a + S1x1x1x16x128.size a ≤ S2x2x108x128x128.size a) ∧
  (∀ k0_t63 : Fin (k0_t63_loop v228 v257).trips, ∀ (hinb : ∀ a, (k0_off3230 v1 k0_t51 v228 v257 k0_t63) a + S1x1x1x16x128.size a ≤ S2x2x108x128x128.size a), (Rect.unit (s := S2x2x108x128x128) (k0_off3230 v1 k0_t51 v228 v257 k0_t63) S1x1x1x16x128.size hinb).PackedRows (EltTy.packing .bf16)) ∧
  (∀ k0_t63 : Fin (k0_t63_loop v228 v257).trips, ∀ a, (k0_off3231 v1 k0_t51 v228 v257 k0_t63) a + S1x1x1x32x128.size a ≤ S2x2x8x1728x128.size a) ∧
  (∀ k0_t63 : Fin (k0_t63_loop v228 v257).trips, ∀ a, (k0_off3233 v1 k0_t51 v228 v257 k0_t63) a + S1x1x1x16x128.size a ≤ S2x2x108x128x128.size a) ∧
  (∀ k0_t63 : Fin (k0_t63_loop v228 v257).trips, ∀ (hinb : ∀ a, (k0_off3233 v1 k0_t51 v228 v257 k0_t63) a + S1x1x1x16x128.size a ≤ S2x2x108x128x128.size a), (Rect.unit (s := S2x2x108x128x128) (k0_off3233 v1 k0_t51 v228 v257 k0_t63) S1x1x1x16x128.size hinb).PackedRows (EltTy.packing .bf16)) ∧
  (∀ k0_t63 : Fin (k0_t63_loop v228 v257).trips, ∀ a, (k0_off3235 v1 k0_t51 v228 v257 k0_t63) a + S1x1x1x16x128.size a ≤ S2x2x108x128x128.size a) ∧
  (∀ k0_t63 : Fin (k0_t63_loop v228 v257).trips, ∀ (hinb : ∀ a, (k0_off3235 v1 k0_t51 v228 v257 k0_t63) a + S1x1x1x16x128.size a ≤ S2x2x108x128x128.size a), (Rect.unit (s := S2x2x108x128x128) (k0_off3235 v1 k0_t51 v228 v257 k0_t63) S1x1x1x16x128.size hinb).PackedRows (EltTy.packing .bf16)) ∧
  (∀ k0_t63 : Fin (k0_t63_loop v228 v257).trips, ∀ a, (k0_off3236 v1 k0_t51 v228 v257 k0_t63) a + S1x1x1x32x128.size a ≤ S2x2x8x1728x128.size a) ∧
  (∀ k0_t63 : Fin (k0_t63_loop v228 v257).trips, ∀ a, (k0_off3238 v1 k0_t51 v228 v257 k0_t63) a + S1x1x1x16x128.size a ≤ S2x2x108x128x128.size a) ∧
  (∀ k0_t63 : Fin (k0_t63_loop v228 v257).trips, ∀ (hinb : ∀ a, (k0_off3238 v1 k0_t51 v228 v257 k0_t63) a + S1x1x1x16x128.size a ≤ S2x2x108x128x128.size a), (Rect.unit (s := S2x2x108x128x128) (k0_off3238 v1 k0_t51 v228 v257 k0_t63) S1x1x1x16x128.size hinb).PackedRows (EltTy.packing .bf16)) ∧
  (∀ k0_t63 : Fin (k0_t63_loop v228 v257).trips, ∀ a, (k0_off3240 v1 k0_t51 v228 v257 k0_t63) a + S1x1x1x16x128.size a ≤ S2x2x108x128x128.size a) ∧
  (∀ k0_t63 : Fin (k0_t63_loop v228 v257).trips, ∀ (hinb : ∀ a, (k0_off3240 v1 k0_t51 v228 v257 k0_t63) a + S1x1x1x16x128.size a ≤ S2x2x108x128x128.size a), (Rect.unit (s := S2x2x108x128x128) (k0_off3240 v1 k0_t51 v228 v257 k0_t63) S1x1x1x16x128.size hinb).PackedRows (EltTy.packing .bf16)) ∧
  (∀ k0_t63 : Fin (k0_t63_loop v228 v257).trips, ∀ a, (k0_off3241 v1 k0_t51 v228 v257 k0_t63) a + S1x1x1x32x128.size a ≤ S2x2x8x1728x128.size a)
def k0_chk35_47 (v1 : BitVec 32) (k0_t51 : Fin (k0_t51_loop v1).trips) (v228 : BitVec 32) (v257 : BitVec 32) : Prop :=
  (∀ k0_t63 : Fin (k0_t63_loop v228 v257).trips, ∀ a, (k0_off3243 v1 k0_t51 v228 v257 k0_t63) a + S1x1x1x16x128.size a ≤ S2x2x108x128x128.size a) ∧
  (∀ k0_t63 : Fin (k0_t63_loop v228 v257).trips, ∀ (hinb : ∀ a, (k0_off3243 v1 k0_t51 v228 v257 k0_t63) a + S1x1x1x16x128.size a ≤ S2x2x108x128x128.size a), (Rect.unit (s := S2x2x108x128x128) (k0_off3243 v1 k0_t51 v228 v257 k0_t63) S1x1x1x16x128.size hinb).PackedRows (EltTy.packing .bf16)) ∧
  (∀ k0_t63 : Fin (k0_t63_loop v228 v257).trips, ∀ a, (k0_off3245 v1 k0_t51 v228 v257 k0_t63) a + S1x1x1x16x128.size a ≤ S2x2x108x128x128.size a) ∧
  (∀ k0_t63 : Fin (k0_t63_loop v228 v257).trips, ∀ (hinb : ∀ a, (k0_off3245 v1 k0_t51 v228 v257 k0_t63) a + S1x1x1x16x128.size a ≤ S2x2x108x128x128.size a), (Rect.unit (s := S2x2x108x128x128) (k0_off3245 v1 k0_t51 v228 v257 k0_t63) S1x1x1x16x128.size hinb).PackedRows (EltTy.packing .bf16)) ∧
  (∀ k0_t63 : Fin (k0_t63_loop v228 v257).trips, ∀ a, (k0_off3246 v1 k0_t51 v228 v257 k0_t63) a + S1x1x1x32x128.size a ≤ S2x2x8x1728x128.size a) ∧
  (∀ k0_t63 : Fin (k0_t63_loop v228 v257).trips, ∀ a, (k0_off3248 v1 k0_t51 v228 v257 k0_t63) a + S1x1x1x16x128.size a ≤ S2x2x108x128x128.size a) ∧
  (∀ k0_t63 : Fin (k0_t63_loop v228 v257).trips, ∀ (hinb : ∀ a, (k0_off3248 v1 k0_t51 v228 v257 k0_t63) a + S1x1x1x16x128.size a ≤ S2x2x108x128x128.size a), (Rect.unit (s := S2x2x108x128x128) (k0_off3248 v1 k0_t51 v228 v257 k0_t63) S1x1x1x16x128.size hinb).PackedRows (EltTy.packing .bf16)) ∧
  (∀ k0_t63 : Fin (k0_t63_loop v228 v257).trips, ∀ a, (k0_off3250 v1 k0_t51 v228 v257 k0_t63) a + S1x1x1x16x128.size a ≤ S2x2x108x128x128.size a) ∧
  (∀ k0_t63 : Fin (k0_t63_loop v228 v257).trips, ∀ (hinb : ∀ a, (k0_off3250 v1 k0_t51 v228 v257 k0_t63) a + S1x1x1x16x128.size a ≤ S2x2x108x128x128.size a), (Rect.unit (s := S2x2x108x128x128) (k0_off3250 v1 k0_t51 v228 v257 k0_t63) S1x1x1x16x128.size hinb).PackedRows (EltTy.packing .bf16)) ∧
  (∀ k0_t63 : Fin (k0_t63_loop v228 v257).trips, ∀ a, (k0_off3251 v1 k0_t51 v228 v257 k0_t63) a + S1x1x1x32x128.size a ≤ S2x2x8x1728x128.size a) ∧
  (∀ k0_t63 : Fin (k0_t63_loop v228 v257).trips, ∀ a, (k0_off3253 v1 k0_t51 v228 v257 k0_t63) a + S1x1x1x16x128.size a ≤ S2x2x108x128x128.size a) ∧
  (∀ k0_t63 : Fin (k0_t63_loop v228 v257).trips, ∀ (hinb : ∀ a, (k0_off3253 v1 k0_t51 v228 v257 k0_t63) a + S1x1x1x16x128.size a ≤ S2x2x108x128x128.size a), (Rect.unit (s := S2x2x108x128x128) (k0_off3253 v1 k0_t51 v228 v257 k0_t63) S1x1x1x16x128.size hinb).PackedRows (EltTy.packing .bf16)) ∧
  (∀ k0_t63 : Fin (k0_t63_loop v228 v257).trips, ∀ a, (k0_off3255 v1 k0_t51 v228 v257 k0_t63) a + S1x1x1x16x128.size a ≤ S2x2x108x128x128.size a) ∧
  (∀ k0_t63 : Fin (k0_t63_loop v228 v257).trips, ∀ (hinb : ∀ a, (k0_off3255 v1 k0_t51 v228 v257 k0_t63) a + S1x1x1x16x128.size a ≤ S2x2x108x128x128.size a), (Rect.unit (s := S2x2x108x128x128) (k0_off3255 v1 k0_t51 v228 v257 k0_t63) S1x1x1x16x128.size hinb).PackedRows (EltTy.packing .bf16)) ∧
  (∀ k0_t63 : Fin (k0_t63_loop v228 v257).trips, ∀ a, (k0_off3256 v1 k0_t51 v228 v257 k0_t63) a + S1x1x1x32x128.size a ≤ S2x2x8x1728x128.size a) ∧
  (∀ k0_t63 : Fin (k0_t63_loop v228 v257).trips, ∀ a, (k0_off3258 v1 k0_t51 v228 v257 k0_t63) a + S1x1x1x16x128.size a ≤ S2x2x108x128x128.size a) ∧
  (∀ k0_t63 : Fin (k0_t63_loop v228 v257).trips, ∀ (hinb : ∀ a, (k0_off3258 v1 k0_t51 v228 v257 k0_t63) a + S1x1x1x16x128.size a ≤ S2x2x108x128x128.size a), (Rect.unit (s := S2x2x108x128x128) (k0_off3258 v1 k0_t51 v228 v257 k0_t63) S1x1x1x16x128.size hinb).PackedRows (EltTy.packing .bf16)) ∧
  (∀ k0_t63 : Fin (k0_t63_loop v228 v257).trips, ∀ a, (k0_off3260 v1 k0_t51 v228 v257 k0_t63) a + S1x1x1x16x128.size a ≤ S2x2x108x128x128.size a) ∧
  (∀ k0_t63 : Fin (k0_t63_loop v228 v257).trips, ∀ (hinb : ∀ a, (k0_off3260 v1 k0_t51 v228 v257 k0_t63) a + S1x1x1x16x128.size a ≤ S2x2x108x128x128.size a), (Rect.unit (s := S2x2x108x128x128) (k0_off3260 v1 k0_t51 v228 v257 k0_t63) S1x1x1x16x128.size hinb).PackedRows (EltTy.packing .bf16)) ∧
  (∀ k0_t63 : Fin (k0_t63_loop v228 v257).trips, ∀ a, (k0_off3261 v1 k0_t51 v228 v257 k0_t63) a + S1x1x1x32x128.size a ≤ S2x2x8x1728x128.size a) ∧
  (∀ k0_t63 : Fin (k0_t63_loop v228 v257).trips, ∀ a, (k0_off3263 v1 k0_t51 v228 v257 k0_t63) a + S1x1x1x16x128.size a ≤ S2x2x108x128x128.size a) ∧
  (∀ k0_t63 : Fin (k0_t63_loop v228 v257).trips, ∀ (hinb : ∀ a, (k0_off3263 v1 k0_t51 v228 v257 k0_t63) a + S1x1x1x16x128.size a ≤ S2x2x108x128x128.size a), (Rect.unit (s := S2x2x108x128x128) (k0_off3263 v1 k0_t51 v228 v257 k0_t63) S1x1x1x16x128.size hinb).PackedRows (EltTy.packing .bf16)) ∧
  (∀ k0_t63 : Fin (k0_t63_loop v228 v257).trips, ∀ a, (k0_off3265 v1 k0_t51 v228 v257 k0_t63) a + S1x1x1x16x128.size a ≤ S2x2x108x128x128.size a) ∧
  (∀ k0_t63 : Fin (k0_t63_loop v228 v257).trips, ∀ (hinb : ∀ a, (k0_off3265 v1 k0_t51 v228 v257 k0_t63) a + S1x1x1x16x128.size a ≤ S2x2x108x128x128.size a), (Rect.unit (s := S2x2x108x128x128) (k0_off3265 v1 k0_t51 v228 v257 k0_t63) S1x1x1x16x128.size hinb).PackedRows (EltTy.packing .bf16)) ∧
  (∀ k0_t63 : Fin (k0_t63_loop v228 v257).trips, ∀ a, (k0_off3266 v1 k0_t51 v228 v257 k0_t63) a + S1x1x1x32x128.size a ≤ S2x2x8x1728x128.size a) ∧
  (∀ k0_t63 : Fin (k0_t63_loop v228 v257).trips, ∀ a, (k0_off3268 v1 k0_t51 v228 v257 k0_t63) a + S1x1x1x16x128.size a ≤ S2x2x108x128x128.size a) ∧
  (∀ k0_t63 : Fin (k0_t63_loop v228 v257).trips, ∀ (hinb : ∀ a, (k0_off3268 v1 k0_t51 v228 v257 k0_t63) a + S1x1x1x16x128.size a ≤ S2x2x108x128x128.size a), (Rect.unit (s := S2x2x108x128x128) (k0_off3268 v1 k0_t51 v228 v257 k0_t63) S1x1x1x16x128.size hinb).PackedRows (EltTy.packing .bf16)) ∧
  (∀ k0_t63 : Fin (k0_t63_loop v228 v257).trips, ∀ a, (k0_off3270 v1 k0_t51 v228 v257 k0_t63) a + S1x1x1x16x128.size a ≤ S2x2x108x128x128.size a) ∧
  (∀ k0_t63 : Fin (k0_t63_loop v228 v257).trips, ∀ (hinb : ∀ a, (k0_off3270 v1 k0_t51 v228 v257 k0_t63) a + S1x1x1x16x128.size a ≤ S2x2x108x128x128.size a), (Rect.unit (s := S2x2x108x128x128) (k0_off3270 v1 k0_t51 v228 v257 k0_t63) S1x1x1x16x128.size hinb).PackedRows (EltTy.packing .bf16)) ∧
  (∀ k0_t63 : Fin (k0_t63_loop v228 v257).trips, ∀ a, (k0_off3271 v1 k0_t51 v228 v257 k0_t63) a + S1x1x1x32x128.size a ≤ S2x2x8x1728x128.size a) ∧
  (∀ k0_t63 : Fin (k0_t63_loop v228 v257).trips, ∀ a, (k0_off3273 v1 k0_t51 v228 v257 k0_t63) a + S1x1x1x16x128.size a ≤ S2x2x108x128x128.size a) ∧
  (∀ k0_t63 : Fin (k0_t63_loop v228 v257).trips, ∀ (hinb : ∀ a, (k0_off3273 v1 k0_t51 v228 v257 k0_t63) a + S1x1x1x16x128.size a ≤ S2x2x108x128x128.size a), (Rect.unit (s := S2x2x108x128x128) (k0_off3273 v1 k0_t51 v228 v257 k0_t63) S1x1x1x16x128.size hinb).PackedRows (EltTy.packing .bf16))
def k0_chk35_48 (v1 : BitVec 32) (k0_t51 : Fin (k0_t51_loop v1).trips) (v228 : BitVec 32) (v257 : BitVec 32) : Prop :=
  (∀ k0_t63 : Fin (k0_t63_loop v228 v257).trips, ∀ a, (k0_off3275 v1 k0_t51 v228 v257 k0_t63) a + S1x1x1x16x128.size a ≤ S2x2x108x128x128.size a) ∧
  (∀ k0_t63 : Fin (k0_t63_loop v228 v257).trips, ∀ (hinb : ∀ a, (k0_off3275 v1 k0_t51 v228 v257 k0_t63) a + S1x1x1x16x128.size a ≤ S2x2x108x128x128.size a), (Rect.unit (s := S2x2x108x128x128) (k0_off3275 v1 k0_t51 v228 v257 k0_t63) S1x1x1x16x128.size hinb).PackedRows (EltTy.packing .bf16)) ∧
  (∀ k0_t63 : Fin (k0_t63_loop v228 v257).trips, ∀ a, (k0_off3276 v1 k0_t51 v228 v257 k0_t63) a + S1x1x1x32x128.size a ≤ S2x2x8x1728x128.size a) ∧
  (∀ k0_t63 : Fin (k0_t63_loop v228 v257).trips, ∀ a, (k0_off3278 v1 k0_t51 v228 v257 k0_t63) a + S1x1x1x16x128.size a ≤ S2x2x108x128x128.size a) ∧
  (∀ k0_t63 : Fin (k0_t63_loop v228 v257).trips, ∀ (hinb : ∀ a, (k0_off3278 v1 k0_t51 v228 v257 k0_t63) a + S1x1x1x16x128.size a ≤ S2x2x108x128x128.size a), (Rect.unit (s := S2x2x108x128x128) (k0_off3278 v1 k0_t51 v228 v257 k0_t63) S1x1x1x16x128.size hinb).PackedRows (EltTy.packing .bf16)) ∧
  (∀ k0_t63 : Fin (k0_t63_loop v228 v257).trips, ∀ a, (k0_off3280 v1 k0_t51 v228 v257 k0_t63) a + S1x1x1x16x128.size a ≤ S2x2x108x128x128.size a) ∧
  (∀ k0_t63 : Fin (k0_t63_loop v228 v257).trips, ∀ (hinb : ∀ a, (k0_off3280 v1 k0_t51 v228 v257 k0_t63) a + S1x1x1x16x128.size a ≤ S2x2x108x128x128.size a), (Rect.unit (s := S2x2x108x128x128) (k0_off3280 v1 k0_t51 v228 v257 k0_t63) S1x1x1x16x128.size hinb).PackedRows (EltTy.packing .bf16)) ∧
  (∀ k0_t63 : Fin (k0_t63_loop v228 v257).trips, ∀ a, (k0_off3281 v1 k0_t51 v228 v257 k0_t63) a + S1x1x1x32x128.size a ≤ S2x2x8x1728x128.size a) ∧
  (∀ k0_t63 : Fin (k0_t63_loop v228 v257).trips, ∀ a, (k0_off3283 v1 k0_t51 v228 v257 k0_t63) a + S1x1x1x16x128.size a ≤ S2x2x108x128x128.size a) ∧
  (∀ k0_t63 : Fin (k0_t63_loop v228 v257).trips, ∀ (hinb : ∀ a, (k0_off3283 v1 k0_t51 v228 v257 k0_t63) a + S1x1x1x16x128.size a ≤ S2x2x108x128x128.size a), (Rect.unit (s := S2x2x108x128x128) (k0_off3283 v1 k0_t51 v228 v257 k0_t63) S1x1x1x16x128.size hinb).PackedRows (EltTy.packing .bf16)) ∧
  (∀ k0_t63 : Fin (k0_t63_loop v228 v257).trips, ∀ a, (k0_off3285 v1 k0_t51 v228 v257 k0_t63) a + S1x1x1x16x128.size a ≤ S2x2x108x128x128.size a) ∧
  (∀ k0_t63 : Fin (k0_t63_loop v228 v257).trips, ∀ (hinb : ∀ a, (k0_off3285 v1 k0_t51 v228 v257 k0_t63) a + S1x1x1x16x128.size a ≤ S2x2x108x128x128.size a), (Rect.unit (s := S2x2x108x128x128) (k0_off3285 v1 k0_t51 v228 v257 k0_t63) S1x1x1x16x128.size hinb).PackedRows (EltTy.packing .bf16)) ∧
  ((k0_t64_loop v228 v257).OK) ∧
  (∀ k0_t64 : Fin (k0_t64_loop v228 v257).trips, 16 ∣ (k0_mult26 v228 v257 k0_t64).toNat) ∧
  (∀ k0_t64 : Fin (k0_t64_loop v228 v257).trips, ∀ a, (k0_off3286 v1 k0_t51 v228 v257 k0_t64) a + S1x1x1x16x128.size a ≤ S2x2x108x128x128.size a) ∧
  (∀ k0_t64 : Fin (k0_t64_loop v228 v257).trips, ∀ (hinb : ∀ a, (k0_off3286 v1 k0_t51 v228 v257 k0_t64) a + S1x1x1x16x128.size a ≤ S2x2x108x128x128.size a), (Rect.unit (s := S2x2x108x128x128) (k0_off3286 v1 k0_t51 v228 v257 k0_t64) S1x1x1x16x128.size hinb).PackedRows (EltTy.packing .bf16)) ∧
  (∀ k0_t64 : Fin (k0_t64_loop v228 v257).trips, ∀ a, (k0_off3287 v1 k0_t51 v228 v257 k0_t64) a + S1x1x1x16x128.size a ≤ S2x2x108x128x128.size a) ∧
  (∀ k0_t64 : Fin (k0_t64_loop v228 v257).trips, ∀ (hinb : ∀ a, (k0_off3287 v1 k0_t51 v228 v257 k0_t64) a + S1x1x1x16x128.size a ≤ S2x2x108x128x128.size a), (Rect.unit (s := S2x2x108x128x128) (k0_off3287 v1 k0_t51 v228 v257 k0_t64) S1x1x1x16x128.size hinb).PackedRows (EltTy.packing .bf16)) ∧
  (∀ k0_t64 : Fin (k0_t64_loop v228 v257).trips, ∀ a, (k0_off3288 v1 k0_t51 v228 v257 k0_t64) a + S1x1x1x16x128.size a ≤ S2x2x108x128x128.size a) ∧
  (∀ k0_t64 : Fin (k0_t64_loop v228 v257).trips, ∀ (hinb : ∀ a, (k0_off3288 v1 k0_t51 v228 v257 k0_t64) a + S1x1x1x16x128.size a ≤ S2x2x108x128x128.size a), (Rect.unit (s := S2x2x108x128x128) (k0_off3288 v1 k0_t51 v228 v257 k0_t64) S1x1x1x16x128.size hinb).PackedRows (EltTy.packing .bf16)) ∧
  (∀ k0_t64 : Fin (k0_t64_loop v228 v257).trips, ∀ a, (k0_off3289 v1 k0_t51 v228 v257 k0_t64) a + S1x1x1x16x128.size a ≤ S2x2x108x128x128.size a) ∧
  (∀ k0_t64 : Fin (k0_t64_loop v228 v257).trips, ∀ (hinb : ∀ a, (k0_off3289 v1 k0_t51 v228 v257 k0_t64) a + S1x1x1x16x128.size a ≤ S2x2x108x128x128.size a), (Rect.unit (s := S2x2x108x128x128) (k0_off3289 v1 k0_t51 v228 v257 k0_t64) S1x1x1x16x128.size hinb).PackedRows (EltTy.packing .bf16)) ∧
  (∀ k0_t64 : Fin (k0_t64_loop v228 v257).trips, ∀ a, (k0_off3290 v1 k0_t51 v228 v257 k0_t64) a + S1x1x1x16x128.size a ≤ S2x2x108x128x128.size a) ∧
  (∀ k0_t64 : Fin (k0_t64_loop v228 v257).trips, ∀ (hinb : ∀ a, (k0_off3290 v1 k0_t51 v228 v257 k0_t64) a + S1x1x1x16x128.size a ≤ S2x2x108x128x128.size a), (Rect.unit (s := S2x2x108x128x128) (k0_off3290 v1 k0_t51 v228 v257 k0_t64) S1x1x1x16x128.size hinb).PackedRows (EltTy.packing .bf16)) ∧
  (∀ k0_t64 : Fin (k0_t64_loop v228 v257).trips, ∀ a, (k0_off3291 v1 k0_t51 v228 v257 k0_t64) a + S1x1x1x16x128.size a ≤ S2x2x108x128x128.size a) ∧
  (∀ k0_t64 : Fin (k0_t64_loop v228 v257).trips, ∀ (hinb : ∀ a, (k0_off3291 v1 k0_t51 v228 v257 k0_t64) a + S1x1x1x16x128.size a ≤ S2x2x108x128x128.size a), (Rect.unit (s := S2x2x108x128x128) (k0_off3291 v1 k0_t51 v228 v257 k0_t64) S1x1x1x16x128.size hinb).PackedRows (EltTy.packing .bf16)) ∧
  (∀ k0_t64 : Fin (k0_t64_loop v228 v257).trips, ∀ a, (k0_off3292 v1 k0_t51 v228 v257 k0_t64) a + S1x1x1x16x128.size a ≤ S2x2x108x128x128.size a) ∧
  (∀ k0_t64 : Fin (k0_t64_loop v228 v257).trips, ∀ (hinb : ∀ a, (k0_off3292 v1 k0_t51 v228 v257 k0_t64) a + S1x1x1x16x128.size a ≤ S2x2x108x128x128.size a), (Rect.unit (s := S2x2x108x128x128) (k0_off3292 v1 k0_t51 v228 v257 k0_t64) S1x1x1x16x128.size hinb).PackedRows (EltTy.packing .bf16)) ∧
  (∀ k0_t64 : Fin (k0_t64_loop v228 v257).trips, ∀ a, (k0_off3293 v1 k0_t51 v228 v257 k0_t64) a + S1x1x1x16x128.size a ≤ S2x2x108x128x128.size a) ∧
  (∀ k0_t64 : Fin (k0_t64_loop v228 v257).trips, ∀ (hinb : ∀ a, (k0_off3293 v1 k0_t51 v228 v257 k0_t64) a + S1x1x1x16x128.size a ≤ S2x2x108x128x128.size a), (Rect.unit (s := S2x2x108x128x128) (k0_off3293 v1 k0_t51 v228 v257 k0_t64) S1x1x1x16x128.size hinb).PackedRows (EltTy.packing .bf16)) ∧
  (∀ k0_t64 : Fin (k0_t64_loop v228 v257).trips, ∀ a, (k0_off3294 v1 k0_t51 v228 v257 k0_t64) a + S1x1x1x16x128.size a ≤ S2x2x108x128x128.size a) ∧
  (∀ k0_t64 : Fin (k0_t64_loop v228 v257).trips, ∀ (hinb : ∀ a, (k0_off3294 v1 k0_t51 v228 v257 k0_t64) a + S1x1x1x16x128.size a ≤ S2x2x108x128x128.size a), (Rect.unit (s := S2x2x108x128x128) (k0_off3294 v1 k0_t51 v228 v257 k0_t64) S1x1x1x16x128.size hinb).PackedRows (EltTy.packing .bf16))
def k0_chk35_49 (v1 : BitVec 32) (k0_t51 : Fin (k0_t51_loop v1).trips) (v228 : BitVec 32) (v257 : BitVec 32) : Prop :=
  (∀ k0_t64 : Fin (k0_t64_loop v228 v257).trips, ∀ a, (k0_off3295 v1 k0_t51 v228 v257 k0_t64) a + S1x1x1x16x128.size a ≤ S2x2x108x128x128.size a) ∧
  (∀ k0_t64 : Fin (k0_t64_loop v228 v257).trips, ∀ (hinb : ∀ a, (k0_off3295 v1 k0_t51 v228 v257 k0_t64) a + S1x1x1x16x128.size a ≤ S2x2x108x128x128.size a), (Rect.unit (s := S2x2x108x128x128) (k0_off3295 v1 k0_t51 v228 v257 k0_t64) S1x1x1x16x128.size hinb).PackedRows (EltTy.packing .bf16)) ∧
  (∀ k0_t64 : Fin (k0_t64_loop v228 v257).trips, ∀ a, (k0_off3296 v1 k0_t51 v228 v257 k0_t64) a + S1x1x1x16x128.size a ≤ S2x2x108x128x128.size a) ∧
  (∀ k0_t64 : Fin (k0_t64_loop v228 v257).trips, ∀ (hinb : ∀ a, (k0_off3296 v1 k0_t51 v228 v257 k0_t64) a + S1x1x1x16x128.size a ≤ S2x2x108x128x128.size a), (Rect.unit (s := S2x2x108x128x128) (k0_off3296 v1 k0_t51 v228 v257 k0_t64) S1x1x1x16x128.size hinb).PackedRows (EltTy.packing .bf16)) ∧
  (∀ k0_t64 : Fin (k0_t64_loop v228 v257).trips, ∀ a, (k0_off3297 v1 k0_t51 v228 v257 k0_t64) a + S1x1x1x16x128.size a ≤ S2x2x108x128x128.size a) ∧
  (∀ k0_t64 : Fin (k0_t64_loop v228 v257).trips, ∀ (hinb : ∀ a, (k0_off3297 v1 k0_t51 v228 v257 k0_t64) a + S1x1x1x16x128.size a ≤ S2x2x108x128x128.size a), (Rect.unit (s := S2x2x108x128x128) (k0_off3297 v1 k0_t51 v228 v257 k0_t64) S1x1x1x16x128.size hinb).PackedRows (EltTy.packing .bf16)) ∧
  (∀ k0_t64 : Fin (k0_t64_loop v228 v257).trips, ∀ a, (k0_off3298 v1 k0_t51 v228 v257 k0_t64) a + S1x1x1x16x128.size a ≤ S2x2x108x128x128.size a) ∧
  (∀ k0_t64 : Fin (k0_t64_loop v228 v257).trips, ∀ (hinb : ∀ a, (k0_off3298 v1 k0_t51 v228 v257 k0_t64) a + S1x1x1x16x128.size a ≤ S2x2x108x128x128.size a), (Rect.unit (s := S2x2x108x128x128) (k0_off3298 v1 k0_t51 v228 v257 k0_t64) S1x1x1x16x128.size hinb).PackedRows (EltTy.packing .bf16)) ∧
  (∀ k0_t64 : Fin (k0_t64_loop v228 v257).trips, ∀ a, (k0_off3299 v1 k0_t51 v228 v257 k0_t64) a + S1x1x1x16x128.size a ≤ S2x2x108x128x128.size a) ∧
  (∀ k0_t64 : Fin (k0_t64_loop v228 v257).trips, ∀ (hinb : ∀ a, (k0_off3299 v1 k0_t51 v228 v257 k0_t64) a + S1x1x1x16x128.size a ≤ S2x2x108x128x128.size a), (Rect.unit (s := S2x2x108x128x128) (k0_off3299 v1 k0_t51 v228 v257 k0_t64) S1x1x1x16x128.size hinb).PackedRows (EltTy.packing .bf16)) ∧
  (∀ k0_t64 : Fin (k0_t64_loop v228 v257).trips, ∀ a, (k0_off3300 v1 k0_t51 v228 v257 k0_t64) a + S1x1x1x16x128.size a ≤ S2x2x108x128x128.size a) ∧
  (∀ k0_t64 : Fin (k0_t64_loop v228 v257).trips, ∀ (hinb : ∀ a, (k0_off3300 v1 k0_t51 v228 v257 k0_t64) a + S1x1x1x16x128.size a ≤ S2x2x108x128x128.size a), (Rect.unit (s := S2x2x108x128x128) (k0_off3300 v1 k0_t51 v228 v257 k0_t64) S1x1x1x16x128.size hinb).PackedRows (EltTy.packing .bf16)) ∧
  (∀ k0_t64 : Fin (k0_t64_loop v228 v257).trips, ∀ a, (k0_off3301 v1 k0_t51 v228 v257 k0_t64) a + S1x1x1x16x128.size a ≤ S2x2x108x128x128.size a) ∧
  (∀ k0_t64 : Fin (k0_t64_loop v228 v257).trips, ∀ (hinb : ∀ a, (k0_off3301 v1 k0_t51 v228 v257 k0_t64) a + S1x1x1x16x128.size a ≤ S2x2x108x128x128.size a), (Rect.unit (s := S2x2x108x128x128) (k0_off3301 v1 k0_t51 v228 v257 k0_t64) S1x1x1x16x128.size hinb).PackedRows (EltTy.packing .bf16)) ∧
  (∀ k0_t64 : Fin (k0_t64_loop v228 v257).trips, ∀ a, (k0_off3302 v1 k0_t51 v228 v257 k0_t64) a + S1x1x1x16x128.size a ≤ S2x2x108x128x128.size a) ∧
  (∀ k0_t64 : Fin (k0_t64_loop v228 v257).trips, ∀ (hinb : ∀ a, (k0_off3302 v1 k0_t51 v228 v257 k0_t64) a + S1x1x1x16x128.size a ≤ S2x2x108x128x128.size a), (Rect.unit (s := S2x2x108x128x128) (k0_off3302 v1 k0_t51 v228 v257 k0_t64) S1x1x1x16x128.size hinb).PackedRows (EltTy.packing .bf16)) ∧
  (∀ k0_t64 : Fin (k0_t64_loop v228 v257).trips, ∀ a, (k0_off3303 v1 k0_t51 v228 v257 k0_t64) a + S1x1x1x16x128.size a ≤ S2x2x108x128x128.size a) ∧
  (∀ k0_t64 : Fin (k0_t64_loop v228 v257).trips, ∀ (hinb : ∀ a, (k0_off3303 v1 k0_t51 v228 v257 k0_t64) a + S1x1x1x16x128.size a ≤ S2x2x108x128x128.size a), (Rect.unit (s := S2x2x108x128x128) (k0_off3303 v1 k0_t51 v228 v257 k0_t64) S1x1x1x16x128.size hinb).PackedRows (EltTy.packing .bf16)) ∧
  (∀ k0_t64 : Fin (k0_t64_loop v228 v257).trips, ∀ a, (k0_off3304 v1 k0_t51 v228 v257 k0_t64) a + S1x1x1x16x128.size a ≤ S2x2x108x128x128.size a) ∧
  (∀ k0_t64 : Fin (k0_t64_loop v228 v257).trips, ∀ (hinb : ∀ a, (k0_off3304 v1 k0_t51 v228 v257 k0_t64) a + S1x1x1x16x128.size a ≤ S2x2x108x128x128.size a), (Rect.unit (s := S2x2x108x128x128) (k0_off3304 v1 k0_t51 v228 v257 k0_t64) S1x1x1x16x128.size hinb).PackedRows (EltTy.packing .bf16)) ∧
  (∀ k0_t64 : Fin (k0_t64_loop v228 v257).trips, ∀ a, (k0_off3305 v1 k0_t51 v228 v257 k0_t64) a + S1x1x1x16x128.size a ≤ S2x2x108x128x128.size a) ∧
  (∀ k0_t64 : Fin (k0_t64_loop v228 v257).trips, ∀ (hinb : ∀ a, (k0_off3305 v1 k0_t51 v228 v257 k0_t64) a + S1x1x1x16x128.size a ≤ S2x2x108x128x128.size a), (Rect.unit (s := S2x2x108x128x128) (k0_off3305 v1 k0_t51 v228 v257 k0_t64) S1x1x1x16x128.size hinb).PackedRows (EltTy.packing .bf16)) ∧
  (∀ k0_t64 : Fin (k0_t64_loop v228 v257).trips, ∀ a, (k0_off3306 v1 k0_t51 v228 v257 k0_t64) a + S1x1x1x16x128.size a ≤ S2x2x108x128x128.size a) ∧
  (∀ k0_t64 : Fin (k0_t64_loop v228 v257).trips, ∀ (hinb : ∀ a, (k0_off3306 v1 k0_t51 v228 v257 k0_t64) a + S1x1x1x16x128.size a ≤ S2x2x108x128x128.size a), (Rect.unit (s := S2x2x108x128x128) (k0_off3306 v1 k0_t51 v228 v257 k0_t64) S1x1x1x16x128.size hinb).PackedRows (EltTy.packing .bf16)) ∧
  (∀ k0_t64 : Fin (k0_t64_loop v228 v257).trips, ∀ a, (k0_off3307 v1 k0_t51 v228 v257 k0_t64) a + S1x1x1x16x128.size a ≤ S2x2x108x128x128.size a) ∧
  (∀ k0_t64 : Fin (k0_t64_loop v228 v257).trips, ∀ (hinb : ∀ a, (k0_off3307 v1 k0_t51 v228 v257 k0_t64) a + S1x1x1x16x128.size a ≤ S2x2x108x128x128.size a), (Rect.unit (s := S2x2x108x128x128) (k0_off3307 v1 k0_t51 v228 v257 k0_t64) S1x1x1x16x128.size hinb).PackedRows (EltTy.packing .bf16)) ∧
  (∀ k0_t64 : Fin (k0_t64_loop v228 v257).trips, ∀ a, (k0_off3308 v1 k0_t51 v228 v257 k0_t64) a + S1x1x1x16x128.size a ≤ S2x2x108x128x128.size a) ∧
  (∀ k0_t64 : Fin (k0_t64_loop v228 v257).trips, ∀ (hinb : ∀ a, (k0_off3308 v1 k0_t51 v228 v257 k0_t64) a + S1x1x1x16x128.size a ≤ S2x2x108x128x128.size a), (Rect.unit (s := S2x2x108x128x128) (k0_off3308 v1 k0_t51 v228 v257 k0_t64) S1x1x1x16x128.size hinb).PackedRows (EltTy.packing .bf16)) ∧
  (∀ k0_t64 : Fin (k0_t64_loop v228 v257).trips, ∀ a, (k0_off3309 v1 k0_t51 v228 v257 k0_t64) a + S1x1x1x16x128.size a ≤ S2x2x108x128x128.size a) ∧
  (∀ k0_t64 : Fin (k0_t64_loop v228 v257).trips, ∀ (hinb : ∀ a, (k0_off3309 v1 k0_t51 v228 v257 k0_t64) a + S1x1x1x16x128.size a ≤ S2x2x108x128x128.size a), (Rect.unit (s := S2x2x108x128x128) (k0_off3309 v1 k0_t51 v228 v257 k0_t64) S1x1x1x16x128.size hinb).PackedRows (EltTy.packing .bf16)) ∧
  (∀ k0_t64 : Fin (k0_t64_loop v228 v257).trips, ∀ a, (k0_off3310 v1 k0_t51 v228 v257 k0_t64) a + S1x1x1x16x128.size a ≤ S2x2x108x128x128.size a) ∧
  (∀ k0_t64 : Fin (k0_t64_loop v228 v257).trips, ∀ (hinb : ∀ a, (k0_off3310 v1 k0_t51 v228 v257 k0_t64) a + S1x1x1x16x128.size a ≤ S2x2x108x128x128.size a), (Rect.unit (s := S2x2x108x128x128) (k0_off3310 v1 k0_t51 v228 v257 k0_t64) S1x1x1x16x128.size hinb).PackedRows (EltTy.packing .bf16))
def k0_chk35_50 (v1 : BitVec 32) (k0_t51 : Fin (k0_t51_loop v1).trips) (v228 : BitVec 32) (v257 : BitVec 32) : Prop :=
  (∀ k0_t64 : Fin (k0_t64_loop v228 v257).trips, ∀ a, (k0_off3311 v1 k0_t51 v228 v257 k0_t64) a + S1x1x1x16x128.size a ≤ S2x2x108x128x128.size a) ∧
  (∀ k0_t64 : Fin (k0_t64_loop v228 v257).trips, ∀ (hinb : ∀ a, (k0_off3311 v1 k0_t51 v228 v257 k0_t64) a + S1x1x1x16x128.size a ≤ S2x2x108x128x128.size a), (Rect.unit (s := S2x2x108x128x128) (k0_off3311 v1 k0_t51 v228 v257 k0_t64) S1x1x1x16x128.size hinb).PackedRows (EltTy.packing .bf16)) ∧
  (∀ k0_t64 : Fin (k0_t64_loop v228 v257).trips, ∀ a, (k0_off3312 v1 k0_t51 v228 v257 k0_t64) a + S1x1x1x16x128.size a ≤ S2x2x108x128x128.size a) ∧
  (∀ k0_t64 : Fin (k0_t64_loop v228 v257).trips, ∀ (hinb : ∀ a, (k0_off3312 v1 k0_t51 v228 v257 k0_t64) a + S1x1x1x16x128.size a ≤ S2x2x108x128x128.size a), (Rect.unit (s := S2x2x108x128x128) (k0_off3312 v1 k0_t51 v228 v257 k0_t64) S1x1x1x16x128.size hinb).PackedRows (EltTy.packing .bf16)) ∧
  (∀ k0_t64 : Fin (k0_t64_loop v228 v257).trips, ∀ a, (k0_off3313 v1 k0_t51 v228 v257 k0_t64) a + S1x1x1x16x128.size a ≤ S2x2x108x128x128.size a) ∧
  (∀ k0_t64 : Fin (k0_t64_loop v228 v257).trips, ∀ (hinb : ∀ a, (k0_off3313 v1 k0_t51 v228 v257 k0_t64) a + S1x1x1x16x128.size a ≤ S2x2x108x128x128.size a), (Rect.unit (s := S2x2x108x128x128) (k0_off3313 v1 k0_t51 v228 v257 k0_t64) S1x1x1x16x128.size hinb).PackedRows (EltTy.packing .bf16)) ∧
  (∀ k0_t64 : Fin (k0_t64_loop v228 v257).trips, ∀ a, (k0_off3314 v1 k0_t51 v228 v257 k0_t64) a + S1x1x1x16x128.size a ≤ S2x2x108x128x128.size a) ∧
  (∀ k0_t64 : Fin (k0_t64_loop v228 v257).trips, ∀ (hinb : ∀ a, (k0_off3314 v1 k0_t51 v228 v257 k0_t64) a + S1x1x1x16x128.size a ≤ S2x2x108x128x128.size a), (Rect.unit (s := S2x2x108x128x128) (k0_off3314 v1 k0_t51 v228 v257 k0_t64) S1x1x1x16x128.size hinb).PackedRows (EltTy.packing .bf16)) ∧
  (∀ k0_t64 : Fin (k0_t64_loop v228 v257).trips, ∀ a, (k0_off3315 v1 k0_t51 v228 v257 k0_t64) a + S1x1x1x16x128.size a ≤ S2x2x108x128x128.size a) ∧
  (∀ k0_t64 : Fin (k0_t64_loop v228 v257).trips, ∀ (hinb : ∀ a, (k0_off3315 v1 k0_t51 v228 v257 k0_t64) a + S1x1x1x16x128.size a ≤ S2x2x108x128x128.size a), (Rect.unit (s := S2x2x108x128x128) (k0_off3315 v1 k0_t51 v228 v257 k0_t64) S1x1x1x16x128.size hinb).PackedRows (EltTy.packing .bf16)) ∧
  (∀ k0_t64 : Fin (k0_t64_loop v228 v257).trips, ∀ a, (k0_off3316 v1 k0_t51 v228 v257 k0_t64) a + S1x1x1x16x128.size a ≤ S2x2x108x128x128.size a) ∧
  (∀ k0_t64 : Fin (k0_t64_loop v228 v257).trips, ∀ (hinb : ∀ a, (k0_off3316 v1 k0_t51 v228 v257 k0_t64) a + S1x1x1x16x128.size a ≤ S2x2x108x128x128.size a), (Rect.unit (s := S2x2x108x128x128) (k0_off3316 v1 k0_t51 v228 v257 k0_t64) S1x1x1x16x128.size hinb).PackedRows (EltTy.packing .bf16)) ∧
  (∀ k0_t64 : Fin (k0_t64_loop v228 v257).trips, ∀ a, (k0_off3317 v1 k0_t51 v228 v257 k0_t64) a + S1x1x1x16x128.size a ≤ S2x2x108x128x128.size a) ∧
  (∀ k0_t64 : Fin (k0_t64_loop v228 v257).trips, ∀ (hinb : ∀ a, (k0_off3317 v1 k0_t51 v228 v257 k0_t64) a + S1x1x1x16x128.size a ≤ S2x2x108x128x128.size a), (Rect.unit (s := S2x2x108x128x128) (k0_off3317 v1 k0_t51 v228 v257 k0_t64) S1x1x1x16x128.size hinb).PackedRows (EltTy.packing .bf16)) ∧
  (∀ k0_t64 : Fin (k0_t64_loop v228 v257).trips, ∀ a, (k0_off3318 v1 k0_t51 v228 v257 k0_t64) a + S1x1x1x16x128.size a ≤ S2x2x108x128x128.size a) ∧
  (∀ k0_t64 : Fin (k0_t64_loop v228 v257).trips, ∀ (hinb : ∀ a, (k0_off3318 v1 k0_t51 v228 v257 k0_t64) a + S1x1x1x16x128.size a ≤ S2x2x108x128x128.size a), (Rect.unit (s := S2x2x108x128x128) (k0_off3318 v1 k0_t51 v228 v257 k0_t64) S1x1x1x16x128.size hinb).PackedRows (EltTy.packing .bf16)) ∧
  (∀ k0_t64 : Fin (k0_t64_loop v228 v257).trips, ∀ a, (k0_off3319 v1 k0_t51 v228 v257 k0_t64) a + S1x1x1x16x128.size a ≤ S2x2x108x128x128.size a) ∧
  (∀ k0_t64 : Fin (k0_t64_loop v228 v257).trips, ∀ (hinb : ∀ a, (k0_off3319 v1 k0_t51 v228 v257 k0_t64) a + S1x1x1x16x128.size a ≤ S2x2x108x128x128.size a), (Rect.unit (s := S2x2x108x128x128) (k0_off3319 v1 k0_t51 v228 v257 k0_t64) S1x1x1x16x128.size hinb).PackedRows (EltTy.packing .bf16)) ∧
  (∀ k0_t64 : Fin (k0_t64_loop v228 v257).trips, ∀ a, (k0_off3320 v1 k0_t51 v228 v257 k0_t64) a + S1x1x1x16x128.size a ≤ S2x2x108x128x128.size a) ∧
  (∀ k0_t64 : Fin (k0_t64_loop v228 v257).trips, ∀ (hinb : ∀ a, (k0_off3320 v1 k0_t51 v228 v257 k0_t64) a + S1x1x1x16x128.size a ≤ S2x2x108x128x128.size a), (Rect.unit (s := S2x2x108x128x128) (k0_off3320 v1 k0_t51 v228 v257 k0_t64) S1x1x1x16x128.size hinb).PackedRows (EltTy.packing .bf16)) ∧
  (∀ k0_t64 : Fin (k0_t64_loop v228 v257).trips, ∀ a, (k0_off3321 v1 k0_t51 v228 v257 k0_t64) a + S1x1x1x16x128.size a ≤ S2x2x108x128x128.size a) ∧
  (∀ k0_t64 : Fin (k0_t64_loop v228 v257).trips, ∀ (hinb : ∀ a, (k0_off3321 v1 k0_t51 v228 v257 k0_t64) a + S1x1x1x16x128.size a ≤ S2x2x108x128x128.size a), (Rect.unit (s := S2x2x108x128x128) (k0_off3321 v1 k0_t51 v228 v257 k0_t64) S1x1x1x16x128.size hinb).PackedRows (EltTy.packing .bf16)) ∧
  (∀ k0_t64 : Fin (k0_t64_loop v228 v257).trips, ∀ a, (k0_off3322 v1 k0_t51 v228 v257 k0_t64) a + S1x1x1x16x128.size a ≤ S2x2x108x128x128.size a) ∧
  (∀ k0_t64 : Fin (k0_t64_loop v228 v257).trips, ∀ (hinb : ∀ a, (k0_off3322 v1 k0_t51 v228 v257 k0_t64) a + S1x1x1x16x128.size a ≤ S2x2x108x128x128.size a), (Rect.unit (s := S2x2x108x128x128) (k0_off3322 v1 k0_t51 v228 v257 k0_t64) S1x1x1x16x128.size hinb).PackedRows (EltTy.packing .bf16)) ∧
  (∀ k0_t64 : Fin (k0_t64_loop v228 v257).trips, ∀ a, (k0_off3323 v1 k0_t51 v228 v257 k0_t64) a + S1x1x1x16x128.size a ≤ S2x2x108x128x128.size a) ∧
  (∀ k0_t64 : Fin (k0_t64_loop v228 v257).trips, ∀ (hinb : ∀ a, (k0_off3323 v1 k0_t51 v228 v257 k0_t64) a + S1x1x1x16x128.size a ≤ S2x2x108x128x128.size a), (Rect.unit (s := S2x2x108x128x128) (k0_off3323 v1 k0_t51 v228 v257 k0_t64) S1x1x1x16x128.size hinb).PackedRows (EltTy.packing .bf16)) ∧
  (∀ k0_t64 : Fin (k0_t64_loop v228 v257).trips, ∀ a, (k0_off3324 v1 k0_t51 v228 v257 k0_t64) a + S1x1x1x16x128.size a ≤ S2x2x108x128x128.size a) ∧
  (∀ k0_t64 : Fin (k0_t64_loop v228 v257).trips, ∀ (hinb : ∀ a, (k0_off3324 v1 k0_t51 v228 v257 k0_t64) a + S1x1x1x16x128.size a ≤ S2x2x108x128x128.size a), (Rect.unit (s := S2x2x108x128x128) (k0_off3324 v1 k0_t51 v228 v257 k0_t64) S1x1x1x16x128.size hinb).PackedRows (EltTy.packing .bf16)) ∧
  (∀ k0_t64 : Fin (k0_t64_loop v228 v257).trips, ∀ a, (k0_off3325 v1 k0_t51 v228 v257 k0_t64) a + S1x1x1x16x128.size a ≤ S2x2x108x128x128.size a) ∧
  (∀ k0_t64 : Fin (k0_t64_loop v228 v257).trips, ∀ (hinb : ∀ a, (k0_off3325 v1 k0_t51 v228 v257 k0_t64) a + S1x1x1x16x128.size a ≤ S2x2x108x128x128.size a), (Rect.unit (s := S2x2x108x128x128) (k0_off3325 v1 k0_t51 v228 v257 k0_t64) S1x1x1x16x128.size hinb).PackedRows (EltTy.packing .bf16)) ∧
  (∀ k0_t64 : Fin (k0_t64_loop v228 v257).trips, ∀ a, (k0_off3326 v1 k0_t51 v228 v257 k0_t64) a + S1x1x1x16x128.size a ≤ S2x2x108x128x128.size a) ∧
  (∀ k0_t64 : Fin (k0_t64_loop v228 v257).trips, ∀ (hinb : ∀ a, (k0_off3326 v1 k0_t51 v228 v257 k0_t64) a + S1x1x1x16x128.size a ≤ S2x2x108x128x128.size a), (Rect.unit (s := S2x2x108x128x128) (k0_off3326 v1 k0_t51 v228 v257 k0_t64) S1x1x1x16x128.size hinb).PackedRows (EltTy.packing .bf16))
def k0_chk35_51 (v1 : BitVec 32) (k0_t51 : Fin (k0_t51_loop v1).trips) (v228 : BitVec 32) (v257 : BitVec 32) : Prop :=
  (∀ k0_t64 : Fin (k0_t64_loop v228 v257).trips, ∀ a, (k0_off3327 v1 k0_t51 v228 v257 k0_t64) a + S1x1x1x16x128.size a ≤ S2x2x108x128x128.size a) ∧
  (∀ k0_t64 : Fin (k0_t64_loop v228 v257).trips, ∀ (hinb : ∀ a, (k0_off3327 v1 k0_t51 v228 v257 k0_t64) a + S1x1x1x16x128.size a ≤ S2x2x108x128x128.size a), (Rect.unit (s := S2x2x108x128x128) (k0_off3327 v1 k0_t51 v228 v257 k0_t64) S1x1x1x16x128.size hinb).PackedRows (EltTy.packing .bf16)) ∧
  (∀ k0_t64 : Fin (k0_t64_loop v228 v257).trips, ∀ a, (k0_off3328 v1 k0_t51 v228 v257 k0_t64) a + S1x1x1x16x128.size a ≤ S2x2x108x128x128.size a) ∧
  (∀ k0_t64 : Fin (k0_t64_loop v228 v257).trips, ∀ (hinb : ∀ a, (k0_off3328 v1 k0_t51 v228 v257 k0_t64) a + S1x1x1x16x128.size a ≤ S2x2x108x128x128.size a), (Rect.unit (s := S2x2x108x128x128) (k0_off3328 v1 k0_t51 v228 v257 k0_t64) S1x1x1x16x128.size hinb).PackedRows (EltTy.packing .bf16)) ∧
  (∀ k0_t64 : Fin (k0_t64_loop v228 v257).trips, ∀ a, (k0_off3329 v1 k0_t51 v228 v257 k0_t64) a + S1x1x1x16x128.size a ≤ S2x2x108x128x128.size a) ∧
  (∀ k0_t64 : Fin (k0_t64_loop v228 v257).trips, ∀ (hinb : ∀ a, (k0_off3329 v1 k0_t51 v228 v257 k0_t64) a + S1x1x1x16x128.size a ≤ S2x2x108x128x128.size a), (Rect.unit (s := S2x2x108x128x128) (k0_off3329 v1 k0_t51 v228 v257 k0_t64) S1x1x1x16x128.size hinb).PackedRows (EltTy.packing .bf16)) ∧
  (∀ k0_t64 : Fin (k0_t64_loop v228 v257).trips, ∀ a, (k0_off3330 v1 k0_t51 v228 v257 k0_t64) a + S1x1x1x16x128.size a ≤ S2x2x108x128x128.size a) ∧
  (∀ k0_t64 : Fin (k0_t64_loop v228 v257).trips, ∀ (hinb : ∀ a, (k0_off3330 v1 k0_t51 v228 v257 k0_t64) a + S1x1x1x16x128.size a ≤ S2x2x108x128x128.size a), (Rect.unit (s := S2x2x108x128x128) (k0_off3330 v1 k0_t51 v228 v257 k0_t64) S1x1x1x16x128.size hinb).PackedRows (EltTy.packing .bf16)) ∧
  (∀ k0_t64 : Fin (k0_t64_loop v228 v257).trips, ∀ a, (k0_off3331 v1 k0_t51 v228 v257 k0_t64) a + S1x1x1x16x128.size a ≤ S2x2x108x128x128.size a) ∧
  (∀ k0_t64 : Fin (k0_t64_loop v228 v257).trips, ∀ (hinb : ∀ a, (k0_off3331 v1 k0_t51 v228 v257 k0_t64) a + S1x1x1x16x128.size a ≤ S2x2x108x128x128.size a), (Rect.unit (s := S2x2x108x128x128) (k0_off3331 v1 k0_t51 v228 v257 k0_t64) S1x1x1x16x128.size hinb).PackedRows (EltTy.packing .bf16)) ∧
  (∀ k0_t64 : Fin (k0_t64_loop v228 v257).trips, ∀ a, (k0_off3332 v1 k0_t51 v228 v257 k0_t64) a + S1x1x1x16x128.size a ≤ S2x2x108x128x128.size a) ∧
  (∀ k0_t64 : Fin (k0_t64_loop v228 v257).trips, ∀ (hinb : ∀ a, (k0_off3332 v1 k0_t51 v228 v257 k0_t64) a + S1x1x1x16x128.size a ≤ S2x2x108x128x128.size a), (Rect.unit (s := S2x2x108x128x128) (k0_off3332 v1 k0_t51 v228 v257 k0_t64) S1x1x1x16x128.size hinb).PackedRows (EltTy.packing .bf16)) ∧
  (∀ k0_t64 : Fin (k0_t64_loop v228 v257).trips, ∀ a, (k0_off3333 v1 k0_t51 v228 v257 k0_t64) a + S1x1x1x16x128.size a ≤ S2x2x108x128x128.size a) ∧
  (∀ k0_t64 : Fin (k0_t64_loop v228 v257).trips, ∀ (hinb : ∀ a, (k0_off3333 v1 k0_t51 v228 v257 k0_t64) a + S1x1x1x16x128.size a ≤ S2x2x108x128x128.size a), (Rect.unit (s := S2x2x108x128x128) (k0_off3333 v1 k0_t51 v228 v257 k0_t64) S1x1x1x16x128.size hinb).PackedRows (EltTy.packing .bf16)) ∧
  (∀ k0_t64 : Fin (k0_t64_loop v228 v257).trips, ∀ a, (k0_off3334 v1 k0_t51 v228 v257 k0_t64) a + S1x1x1x16x128.size a ≤ S2x2x108x128x128.size a) ∧
  (∀ k0_t64 : Fin (k0_t64_loop v228 v257).trips, ∀ (hinb : ∀ a, (k0_off3334 v1 k0_t51 v228 v257 k0_t64) a + S1x1x1x16x128.size a ≤ S2x2x108x128x128.size a), (Rect.unit (s := S2x2x108x128x128) (k0_off3334 v1 k0_t51 v228 v257 k0_t64) S1x1x1x16x128.size hinb).PackedRows (EltTy.packing .bf16)) ∧
  (∀ k0_t64 : Fin (k0_t64_loop v228 v257).trips, ∀ a, (k0_off3335 v1 k0_t51 v228 v257 k0_t64) a + S1x1x1x16x128.size a ≤ S2x2x108x128x128.size a) ∧
  (∀ k0_t64 : Fin (k0_t64_loop v228 v257).trips, ∀ (hinb : ∀ a, (k0_off3335 v1 k0_t51 v228 v257 k0_t64) a + S1x1x1x16x128.size a ≤ S2x2x108x128x128.size a), (Rect.unit (s := S2x2x108x128x128) (k0_off3335 v1 k0_t51 v228 v257 k0_t64) S1x1x1x16x128.size hinb).PackedRows (EltTy.packing .bf16)) ∧
  (∀ k0_t64 : Fin (k0_t64_loop v228 v257).trips, ∀ a, (k0_off3336 v1 k0_t51 v228 v257 k0_t64) a + S1x1x1x16x128.size a ≤ S2x2x108x128x128.size a) ∧
  (∀ k0_t64 : Fin (k0_t64_loop v228 v257).trips, ∀ (hinb : ∀ a, (k0_off3336 v1 k0_t51 v228 v257 k0_t64) a + S1x1x1x16x128.size a ≤ S2x2x108x128x128.size a), (Rect.unit (s := S2x2x108x128x128) (k0_off3336 v1 k0_t51 v228 v257 k0_t64) S1x1x1x16x128.size hinb).PackedRows (EltTy.packing .bf16)) ∧
  (∀ k0_t64 : Fin (k0_t64_loop v228 v257).trips, ∀ a, (k0_off3337 v1 k0_t51 v228 v257 k0_t64) a + S1x1x1x16x128.size a ≤ S2x2x108x128x128.size a) ∧
  (∀ k0_t64 : Fin (k0_t64_loop v228 v257).trips, ∀ (hinb : ∀ a, (k0_off3337 v1 k0_t51 v228 v257 k0_t64) a + S1x1x1x16x128.size a ≤ S2x2x108x128x128.size a), (Rect.unit (s := S2x2x108x128x128) (k0_off3337 v1 k0_t51 v228 v257 k0_t64) S1x1x1x16x128.size hinb).PackedRows (EltTy.packing .bf16)) ∧
  (∀ k0_t64 : Fin (k0_t64_loop v228 v257).trips, ∀ a, (k0_off3338 v1 k0_t51 v228 v257 k0_t64) a + S1x1x1x16x128.size a ≤ S2x2x108x128x128.size a) ∧
  (∀ k0_t64 : Fin (k0_t64_loop v228 v257).trips, ∀ (hinb : ∀ a, (k0_off3338 v1 k0_t51 v228 v257 k0_t64) a + S1x1x1x16x128.size a ≤ S2x2x108x128x128.size a), (Rect.unit (s := S2x2x108x128x128) (k0_off3338 v1 k0_t51 v228 v257 k0_t64) S1x1x1x16x128.size hinb).PackedRows (EltTy.packing .bf16)) ∧
  (∀ k0_t64 : Fin (k0_t64_loop v228 v257).trips, ∀ a, (k0_off3339 v1 k0_t51 v228 v257 k0_t64) a + S1x1x1x16x128.size a ≤ S2x2x108x128x128.size a) ∧
  (∀ k0_t64 : Fin (k0_t64_loop v228 v257).trips, ∀ (hinb : ∀ a, (k0_off3339 v1 k0_t51 v228 v257 k0_t64) a + S1x1x1x16x128.size a ≤ S2x2x108x128x128.size a), (Rect.unit (s := S2x2x108x128x128) (k0_off3339 v1 k0_t51 v228 v257 k0_t64) S1x1x1x16x128.size hinb).PackedRows (EltTy.packing .bf16)) ∧
  (∀ k0_t64 : Fin (k0_t64_loop v228 v257).trips, ∀ a, (k0_off3340 v1 k0_t51 v228 v257 k0_t64) a + S1x1x1x16x128.size a ≤ S2x2x108x128x128.size a) ∧
  (∀ k0_t64 : Fin (k0_t64_loop v228 v257).trips, ∀ (hinb : ∀ a, (k0_off3340 v1 k0_t51 v228 v257 k0_t64) a + S1x1x1x16x128.size a ≤ S2x2x108x128x128.size a), (Rect.unit (s := S2x2x108x128x128) (k0_off3340 v1 k0_t51 v228 v257 k0_t64) S1x1x1x16x128.size hinb).PackedRows (EltTy.packing .bf16)) ∧
  (∀ k0_t64 : Fin (k0_t64_loop v228 v257).trips, ∀ a, (k0_off3341 v1 k0_t51 v228 v257 k0_t64) a + S1x1x1x16x128.size a ≤ S2x2x108x128x128.size a) ∧
  (∀ k0_t64 : Fin (k0_t64_loop v228 v257).trips, ∀ (hinb : ∀ a, (k0_off3341 v1 k0_t51 v228 v257 k0_t64) a + S1x1x1x16x128.size a ≤ S2x2x108x128x128.size a), (Rect.unit (s := S2x2x108x128x128) (k0_off3341 v1 k0_t51 v228 v257 k0_t64) S1x1x1x16x128.size hinb).PackedRows (EltTy.packing .bf16)) ∧
  (∀ k0_t64 : Fin (k0_t64_loop v228 v257).trips, ∀ a, (k0_off3342 v1 k0_t51 v228 v257 k0_t64) a + S1x1x1x16x128.size a ≤ S2x2x108x128x128.size a) ∧
  (∀ k0_t64 : Fin (k0_t64_loop v228 v257).trips, ∀ (hinb : ∀ a, (k0_off3342 v1 k0_t51 v228 v257 k0_t64) a + S1x1x1x16x128.size a ≤ S2x2x108x128x128.size a), (Rect.unit (s := S2x2x108x128x128) (k0_off3342 v1 k0_t51 v228 v257 k0_t64) S1x1x1x16x128.size hinb).PackedRows (EltTy.packing .bf16))
def k0_chk35_52 (v1 : BitVec 32) (k0_t51 : Fin (k0_t51_loop v1).trips) (v228 : BitVec 32) (v257 : BitVec 32) : Prop :=
  (∀ k0_t64 : Fin (k0_t64_loop v228 v257).trips, ∀ a, (k0_off3343 v1 k0_t51 v228 v257 k0_t64) a + S1x1x1x16x128.size a ≤ S2x2x108x128x128.size a) ∧
  (∀ k0_t64 : Fin (k0_t64_loop v228 v257).trips, ∀ (hinb : ∀ a, (k0_off3343 v1 k0_t51 v228 v257 k0_t64) a + S1x1x1x16x128.size a ≤ S2x2x108x128x128.size a), (Rect.unit (s := S2x2x108x128x128) (k0_off3343 v1 k0_t51 v228 v257 k0_t64) S1x1x1x16x128.size hinb).PackedRows (EltTy.packing .bf16)) ∧
  (∀ k0_t64 : Fin (k0_t64_loop v228 v257).trips, ∀ a, (k0_off3344 v1 k0_t51 v228 v257 k0_t64) a + S1x1x1x16x128.size a ≤ S2x2x108x128x128.size a) ∧
  (∀ k0_t64 : Fin (k0_t64_loop v228 v257).trips, ∀ (hinb : ∀ a, (k0_off3344 v1 k0_t51 v228 v257 k0_t64) a + S1x1x1x16x128.size a ≤ S2x2x108x128x128.size a), (Rect.unit (s := S2x2x108x128x128) (k0_off3344 v1 k0_t51 v228 v257 k0_t64) S1x1x1x16x128.size hinb).PackedRows (EltTy.packing .bf16)) ∧
  (∀ k0_t64 : Fin (k0_t64_loop v228 v257).trips, ∀ a, (k0_off3345 v1 k0_t51 v228 v257 k0_t64) a + S1x1x1x16x128.size a ≤ S2x2x108x128x128.size a) ∧
  (∀ k0_t64 : Fin (k0_t64_loop v228 v257).trips, ∀ (hinb : ∀ a, (k0_off3345 v1 k0_t51 v228 v257 k0_t64) a + S1x1x1x16x128.size a ≤ S2x2x108x128x128.size a), (Rect.unit (s := S2x2x108x128x128) (k0_off3345 v1 k0_t51 v228 v257 k0_t64) S1x1x1x16x128.size hinb).PackedRows (EltTy.packing .bf16)) ∧
  (∀ k0_t64 : Fin (k0_t64_loop v228 v257).trips, ∀ a, (k0_off3346 v1 k0_t51 v228 v257 k0_t64) a + S1x1x1x16x128.size a ≤ S2x2x108x128x128.size a) ∧
  (∀ k0_t64 : Fin (k0_t64_loop v228 v257).trips, ∀ (hinb : ∀ a, (k0_off3346 v1 k0_t51 v228 v257 k0_t64) a + S1x1x1x16x128.size a ≤ S2x2x108x128x128.size a), (Rect.unit (s := S2x2x108x128x128) (k0_off3346 v1 k0_t51 v228 v257 k0_t64) S1x1x1x16x128.size hinb).PackedRows (EltTy.packing .bf16)) ∧
  (∀ k0_t64 : Fin (k0_t64_loop v228 v257).trips, ∀ a, (k0_off3347 v1 k0_t51 v228 v257 k0_t64) a + S1x1x1x16x128.size a ≤ S2x2x108x128x128.size a) ∧
  (∀ k0_t64 : Fin (k0_t64_loop v228 v257).trips, ∀ (hinb : ∀ a, (k0_off3347 v1 k0_t51 v228 v257 k0_t64) a + S1x1x1x16x128.size a ≤ S2x2x108x128x128.size a), (Rect.unit (s := S2x2x108x128x128) (k0_off3347 v1 k0_t51 v228 v257 k0_t64) S1x1x1x16x128.size hinb).PackedRows (EltTy.packing .bf16)) ∧
  (∀ k0_t64 : Fin (k0_t64_loop v228 v257).trips, ∀ a, (k0_off3348 v1 k0_t51 v228 v257 k0_t64) a + S1x1x1x16x128.size a ≤ S2x2x108x128x128.size a) ∧
  (∀ k0_t64 : Fin (k0_t64_loop v228 v257).trips, ∀ (hinb : ∀ a, (k0_off3348 v1 k0_t51 v228 v257 k0_t64) a + S1x1x1x16x128.size a ≤ S2x2x108x128x128.size a), (Rect.unit (s := S2x2x108x128x128) (k0_off3348 v1 k0_t51 v228 v257 k0_t64) S1x1x1x16x128.size hinb).PackedRows (EltTy.packing .bf16)) ∧
  (∀ k0_t64 : Fin (k0_t64_loop v228 v257).trips, ∀ a, (k0_off3349 v1 k0_t51 v228 v257 k0_t64) a + S1x1x1x16x128.size a ≤ S2x2x108x128x128.size a) ∧
  (∀ k0_t64 : Fin (k0_t64_loop v228 v257).trips, ∀ (hinb : ∀ a, (k0_off3349 v1 k0_t51 v228 v257 k0_t64) a + S1x1x1x16x128.size a ≤ S2x2x108x128x128.size a), (Rect.unit (s := S2x2x108x128x128) (k0_off3349 v1 k0_t51 v228 v257 k0_t64) S1x1x1x16x128.size hinb).PackedRows (EltTy.packing .bf16)) ∧
  (∀ k0_t64 : Fin (k0_t64_loop v228 v257).trips, ∀ a, (k0_off3350 v1 k0_t51 v228 v257 k0_t64) a + S1x1x1x16x128.size a ≤ S2x2x108x128x128.size a) ∧
  (∀ k0_t64 : Fin (k0_t64_loop v228 v257).trips, ∀ (hinb : ∀ a, (k0_off3350 v1 k0_t51 v228 v257 k0_t64) a + S1x1x1x16x128.size a ≤ S2x2x108x128x128.size a), (Rect.unit (s := S2x2x108x128x128) (k0_off3350 v1 k0_t51 v228 v257 k0_t64) S1x1x1x16x128.size hinb).PackedRows (EltTy.packing .bf16)) ∧
  (∀ k0_t64 : Fin (k0_t64_loop v228 v257).trips, ∀ a, (k0_off3351 v1 k0_t51 v228 v257 k0_t64) a + S1x1x1x16x128.size a ≤ S2x2x108x128x128.size a) ∧
  (∀ k0_t64 : Fin (k0_t64_loop v228 v257).trips, ∀ (hinb : ∀ a, (k0_off3351 v1 k0_t51 v228 v257 k0_t64) a + S1x1x1x16x128.size a ≤ S2x2x108x128x128.size a), (Rect.unit (s := S2x2x108x128x128) (k0_off3351 v1 k0_t51 v228 v257 k0_t64) S1x1x1x16x128.size hinb).PackedRows (EltTy.packing .bf16)) ∧
  (∀ k0_t64 : Fin (k0_t64_loop v228 v257).trips, ∀ a, (k0_off3352 v1 k0_t51 v228 v257 k0_t64) a + S1x1x1x16x128.size a ≤ S2x2x108x128x128.size a) ∧
  (∀ k0_t64 : Fin (k0_t64_loop v228 v257).trips, ∀ (hinb : ∀ a, (k0_off3352 v1 k0_t51 v228 v257 k0_t64) a + S1x1x1x16x128.size a ≤ S2x2x108x128x128.size a), (Rect.unit (s := S2x2x108x128x128) (k0_off3352 v1 k0_t51 v228 v257 k0_t64) S1x1x1x16x128.size hinb).PackedRows (EltTy.packing .bf16)) ∧
  (∀ k0_t64 : Fin (k0_t64_loop v228 v257).trips, ∀ a, (k0_off3353 v1 k0_t51 v228 v257 k0_t64) a + S1x1x1x16x128.size a ≤ S2x2x108x128x128.size a) ∧
  (∀ k0_t64 : Fin (k0_t64_loop v228 v257).trips, ∀ (hinb : ∀ a, (k0_off3353 v1 k0_t51 v228 v257 k0_t64) a + S1x1x1x16x128.size a ≤ S2x2x108x128x128.size a), (Rect.unit (s := S2x2x108x128x128) (k0_off3353 v1 k0_t51 v228 v257 k0_t64) S1x1x1x16x128.size hinb).PackedRows (EltTy.packing .bf16)) ∧
  (∀ k0_t64 : Fin (k0_t64_loop v228 v257).trips, ∀ a, (k0_off3354 v1 k0_t51 v228 v257 k0_t64) a + S1x1x1x16x128.size a ≤ S2x2x108x128x128.size a) ∧
  (∀ k0_t64 : Fin (k0_t64_loop v228 v257).trips, ∀ (hinb : ∀ a, (k0_off3354 v1 k0_t51 v228 v257 k0_t64) a + S1x1x1x16x128.size a ≤ S2x2x108x128x128.size a), (Rect.unit (s := S2x2x108x128x128) (k0_off3354 v1 k0_t51 v228 v257 k0_t64) S1x1x1x16x128.size hinb).PackedRows (EltTy.packing .bf16)) ∧
  (∀ k0_t64 : Fin (k0_t64_loop v228 v257).trips, ∀ a, (k0_off3355 v1 k0_t51 v228 v257 k0_t64) a + S1x1x1x16x128.size a ≤ S2x2x108x128x128.size a) ∧
  (∀ k0_t64 : Fin (k0_t64_loop v228 v257).trips, ∀ (hinb : ∀ a, (k0_off3355 v1 k0_t51 v228 v257 k0_t64) a + S1x1x1x16x128.size a ≤ S2x2x108x128x128.size a), (Rect.unit (s := S2x2x108x128x128) (k0_off3355 v1 k0_t51 v228 v257 k0_t64) S1x1x1x16x128.size hinb).PackedRows (EltTy.packing .bf16)) ∧
  (∀ k0_t64 : Fin (k0_t64_loop v228 v257).trips, ∀ a, (k0_off3356 v1 k0_t51 v228 v257 k0_t64) a + S1x1x1x16x128.size a ≤ S2x2x108x128x128.size a) ∧
  (∀ k0_t64 : Fin (k0_t64_loop v228 v257).trips, ∀ (hinb : ∀ a, (k0_off3356 v1 k0_t51 v228 v257 k0_t64) a + S1x1x1x16x128.size a ≤ S2x2x108x128x128.size a), (Rect.unit (s := S2x2x108x128x128) (k0_off3356 v1 k0_t51 v228 v257 k0_t64) S1x1x1x16x128.size hinb).PackedRows (EltTy.packing .bf16)) ∧
  (∀ k0_t64 : Fin (k0_t64_loop v228 v257).trips, ∀ a, (k0_off3357 v1 k0_t51 v228 v257 k0_t64) a + S1x1x1x16x128.size a ≤ S2x2x108x128x128.size a) ∧
  (∀ k0_t64 : Fin (k0_t64_loop v228 v257).trips, ∀ (hinb : ∀ a, (k0_off3357 v1 k0_t51 v228 v257 k0_t64) a + S1x1x1x16x128.size a ≤ S2x2x108x128x128.size a), (Rect.unit (s := S2x2x108x128x128) (k0_off3357 v1 k0_t51 v228 v257 k0_t64) S1x1x1x16x128.size hinb).PackedRows (EltTy.packing .bf16)) ∧
  (∀ k0_t64 : Fin (k0_t64_loop v228 v257).trips, ∀ a, (k0_off3358 v1 k0_t51 v228 v257 k0_t64) a + S1x1x1x16x128.size a ≤ S2x2x108x128x128.size a) ∧
  (∀ k0_t64 : Fin (k0_t64_loop v228 v257).trips, ∀ (hinb : ∀ a, (k0_off3358 v1 k0_t51 v228 v257 k0_t64) a + S1x1x1x16x128.size a ≤ S2x2x108x128x128.size a), (Rect.unit (s := S2x2x108x128x128) (k0_off3358 v1 k0_t51 v228 v257 k0_t64) S1x1x1x16x128.size hinb).PackedRows (EltTy.packing .bf16))
def k0_chk35_53 (v1 : BitVec 32) (k0_t51 : Fin (k0_t51_loop v1).trips) (v228 : BitVec 32) (v257 : BitVec 32) : Prop :=
  (∀ k0_t64 : Fin (k0_t64_loop v228 v257).trips, ∀ a, (k0_off3359 v1 k0_t51 v228 v257 k0_t64) a + S1x1x1x16x128.size a ≤ S2x2x108x128x128.size a) ∧
  (∀ k0_t64 : Fin (k0_t64_loop v228 v257).trips, ∀ (hinb : ∀ a, (k0_off3359 v1 k0_t51 v228 v257 k0_t64) a + S1x1x1x16x128.size a ≤ S2x2x108x128x128.size a), (Rect.unit (s := S2x2x108x128x128) (k0_off3359 v1 k0_t51 v228 v257 k0_t64) S1x1x1x16x128.size hinb).PackedRows (EltTy.packing .bf16)) ∧
  (∀ k0_t64 : Fin (k0_t64_loop v228 v257).trips, ∀ a, (k0_off3360 v1 k0_t51 v228 v257 k0_t64) a + S1x1x1x16x128.size a ≤ S2x2x108x128x128.size a) ∧
  (∀ k0_t64 : Fin (k0_t64_loop v228 v257).trips, ∀ (hinb : ∀ a, (k0_off3360 v1 k0_t51 v228 v257 k0_t64) a + S1x1x1x16x128.size a ≤ S2x2x108x128x128.size a), (Rect.unit (s := S2x2x108x128x128) (k0_off3360 v1 k0_t51 v228 v257 k0_t64) S1x1x1x16x128.size hinb).PackedRows (EltTy.packing .bf16)) ∧
  (∀ k0_t64 : Fin (k0_t64_loop v228 v257).trips, ∀ a, (k0_off3361 v1 k0_t51 v228 v257 k0_t64) a + S1x1x1x16x128.size a ≤ S2x2x108x128x128.size a) ∧
  (∀ k0_t64 : Fin (k0_t64_loop v228 v257).trips, ∀ (hinb : ∀ a, (k0_off3361 v1 k0_t51 v228 v257 k0_t64) a + S1x1x1x16x128.size a ≤ S2x2x108x128x128.size a), (Rect.unit (s := S2x2x108x128x128) (k0_off3361 v1 k0_t51 v228 v257 k0_t64) S1x1x1x16x128.size hinb).PackedRows (EltTy.packing .bf16)) ∧
  (∀ k0_t64 : Fin (k0_t64_loop v228 v257).trips, ∀ a, (k0_off3362 v1 k0_t51 v228 v257 k0_t64) a + S1x1x1x16x128.size a ≤ S2x2x108x128x128.size a) ∧
  (∀ k0_t64 : Fin (k0_t64_loop v228 v257).trips, ∀ (hinb : ∀ a, (k0_off3362 v1 k0_t51 v228 v257 k0_t64) a + S1x1x1x16x128.size a ≤ S2x2x108x128x128.size a), (Rect.unit (s := S2x2x108x128x128) (k0_off3362 v1 k0_t51 v228 v257 k0_t64) S1x1x1x16x128.size hinb).PackedRows (EltTy.packing .bf16)) ∧
  (∀ k0_t64 : Fin (k0_t64_loop v228 v257).trips, ∀ a, (k0_off3363 v1 k0_t51 v228 v257 k0_t64) a + S1x1x1x16x128.size a ≤ S2x2x108x128x128.size a) ∧
  (∀ k0_t64 : Fin (k0_t64_loop v228 v257).trips, ∀ (hinb : ∀ a, (k0_off3363 v1 k0_t51 v228 v257 k0_t64) a + S1x1x1x16x128.size a ≤ S2x2x108x128x128.size a), (Rect.unit (s := S2x2x108x128x128) (k0_off3363 v1 k0_t51 v228 v257 k0_t64) S1x1x1x16x128.size hinb).PackedRows (EltTy.packing .bf16)) ∧
  (∀ k0_t64 : Fin (k0_t64_loop v228 v257).trips, ∀ a, (k0_off3364 v1 k0_t51 v228 v257 k0_t64) a + S1x1x1x16x128.size a ≤ S2x2x108x128x128.size a) ∧
  (∀ k0_t64 : Fin (k0_t64_loop v228 v257).trips, ∀ (hinb : ∀ a, (k0_off3364 v1 k0_t51 v228 v257 k0_t64) a + S1x1x1x16x128.size a ≤ S2x2x108x128x128.size a), (Rect.unit (s := S2x2x108x128x128) (k0_off3364 v1 k0_t51 v228 v257 k0_t64) S1x1x1x16x128.size hinb).PackedRows (EltTy.packing .bf16)) ∧
  (∀ k0_t64 : Fin (k0_t64_loop v228 v257).trips, ∀ a, (k0_off3365 v1 k0_t51 v228 v257 k0_t64) a + S1x1x1x16x128.size a ≤ S2x2x108x128x128.size a) ∧
  (∀ k0_t64 : Fin (k0_t64_loop v228 v257).trips, ∀ (hinb : ∀ a, (k0_off3365 v1 k0_t51 v228 v257 k0_t64) a + S1x1x1x16x128.size a ≤ S2x2x108x128x128.size a), (Rect.unit (s := S2x2x108x128x128) (k0_off3365 v1 k0_t51 v228 v257 k0_t64) S1x1x1x16x128.size hinb).PackedRows (EltTy.packing .bf16)) ∧
  (∀ k0_t64 : Fin (k0_t64_loop v228 v257).trips, ∀ a, (k0_off3366 v1 k0_t51 v228 v257 k0_t64) a + S1x1x1x16x128.size a ≤ S2x2x108x128x128.size a) ∧
  (∀ k0_t64 : Fin (k0_t64_loop v228 v257).trips, ∀ (hinb : ∀ a, (k0_off3366 v1 k0_t51 v228 v257 k0_t64) a + S1x1x1x16x128.size a ≤ S2x2x108x128x128.size a), (Rect.unit (s := S2x2x108x128x128) (k0_off3366 v1 k0_t51 v228 v257 k0_t64) S1x1x1x16x128.size hinb).PackedRows (EltTy.packing .bf16)) ∧
  (∀ k0_t64 : Fin (k0_t64_loop v228 v257).trips, ∀ a, (k0_off3367 v1 k0_t51 v228 v257 k0_t64) a + S1x1x1x16x128.size a ≤ S2x2x108x128x128.size a) ∧
  (∀ k0_t64 : Fin (k0_t64_loop v228 v257).trips, ∀ (hinb : ∀ a, (k0_off3367 v1 k0_t51 v228 v257 k0_t64) a + S1x1x1x16x128.size a ≤ S2x2x108x128x128.size a), (Rect.unit (s := S2x2x108x128x128) (k0_off3367 v1 k0_t51 v228 v257 k0_t64) S1x1x1x16x128.size hinb).PackedRows (EltTy.packing .bf16)) ∧
  (∀ k0_t64 : Fin (k0_t64_loop v228 v257).trips, ∀ a, (k0_off3368 v1 k0_t51 v228 v257 k0_t64) a + S1x1x1x16x128.size a ≤ S2x2x108x128x128.size a) ∧
  (∀ k0_t64 : Fin (k0_t64_loop v228 v257).trips, ∀ (hinb : ∀ a, (k0_off3368 v1 k0_t51 v228 v257 k0_t64) a + S1x1x1x16x128.size a ≤ S2x2x108x128x128.size a), (Rect.unit (s := S2x2x108x128x128) (k0_off3368 v1 k0_t51 v228 v257 k0_t64) S1x1x1x16x128.size hinb).PackedRows (EltTy.packing .bf16)) ∧
  (∀ k0_t64 : Fin (k0_t64_loop v228 v257).trips, ∀ a, (k0_off3369 v1 k0_t51 v228 v257 k0_t64) a + S1x1x1x16x128.size a ≤ S2x2x108x128x128.size a) ∧
  (∀ k0_t64 : Fin (k0_t64_loop v228 v257).trips, ∀ (hinb : ∀ a, (k0_off3369 v1 k0_t51 v228 v257 k0_t64) a + S1x1x1x16x128.size a ≤ S2x2x108x128x128.size a), (Rect.unit (s := S2x2x108x128x128) (k0_off3369 v1 k0_t51 v228 v257 k0_t64) S1x1x1x16x128.size hinb).PackedRows (EltTy.packing .bf16)) ∧
  (∀ k0_t64 : Fin (k0_t64_loop v228 v257).trips, ∀ a, (k0_off3370 v1 k0_t51 v228 v257 k0_t64) a + S1x1x1x16x128.size a ≤ S2x2x108x128x128.size a) ∧
  (∀ k0_t64 : Fin (k0_t64_loop v228 v257).trips, ∀ (hinb : ∀ a, (k0_off3370 v1 k0_t51 v228 v257 k0_t64) a + S1x1x1x16x128.size a ≤ S2x2x108x128x128.size a), (Rect.unit (s := S2x2x108x128x128) (k0_off3370 v1 k0_t51 v228 v257 k0_t64) S1x1x1x16x128.size hinb).PackedRows (EltTy.packing .bf16)) ∧
  (∀ k0_t64 : Fin (k0_t64_loop v228 v257).trips, ∀ a, (k0_off3371 v1 k0_t51 v228 v257 k0_t64) a + S1x1x1x16x128.size a ≤ S2x2x108x128x128.size a) ∧
  (∀ k0_t64 : Fin (k0_t64_loop v228 v257).trips, ∀ (hinb : ∀ a, (k0_off3371 v1 k0_t51 v228 v257 k0_t64) a + S1x1x1x16x128.size a ≤ S2x2x108x128x128.size a), (Rect.unit (s := S2x2x108x128x128) (k0_off3371 v1 k0_t51 v228 v257 k0_t64) S1x1x1x16x128.size hinb).PackedRows (EltTy.packing .bf16)) ∧
  (∀ k0_t64 : Fin (k0_t64_loop v228 v257).trips, ∀ a, (k0_off3372 v1 k0_t51 v228 v257 k0_t64) a + S1x1x1x16x128.size a ≤ S2x2x108x128x128.size a) ∧
  (∀ k0_t64 : Fin (k0_t64_loop v228 v257).trips, ∀ (hinb : ∀ a, (k0_off3372 v1 k0_t51 v228 v257 k0_t64) a + S1x1x1x16x128.size a ≤ S2x2x108x128x128.size a), (Rect.unit (s := S2x2x108x128x128) (k0_off3372 v1 k0_t51 v228 v257 k0_t64) S1x1x1x16x128.size hinb).PackedRows (EltTy.packing .bf16)) ∧
  (∀ k0_t64 : Fin (k0_t64_loop v228 v257).trips, ∀ a, (k0_off3373 v1 k0_t51 v228 v257 k0_t64) a + S1x1x1x16x128.size a ≤ S2x2x108x128x128.size a) ∧
  (∀ k0_t64 : Fin (k0_t64_loop v228 v257).trips, ∀ (hinb : ∀ a, (k0_off3373 v1 k0_t51 v228 v257 k0_t64) a + S1x1x1x16x128.size a ≤ S2x2x108x128x128.size a), (Rect.unit (s := S2x2x108x128x128) (k0_off3373 v1 k0_t51 v228 v257 k0_t64) S1x1x1x16x128.size hinb).PackedRows (EltTy.packing .bf16)) ∧
  (∀ k0_t64 : Fin (k0_t64_loop v228 v257).trips, ∀ a, (k0_off3374 v1 k0_t51 v228 v257 k0_t64) a + S1x1x1x16x128.size a ≤ S2x2x108x128x128.size a) ∧
  (∀ k0_t64 : Fin (k0_t64_loop v228 v257).trips, ∀ (hinb : ∀ a, (k0_off3374 v1 k0_t51 v228 v257 k0_t64) a + S1x1x1x16x128.size a ≤ S2x2x108x128x128.size a), (Rect.unit (s := S2x2x108x128x128) (k0_off3374 v1 k0_t51 v228 v257 k0_t64) S1x1x1x16x128.size hinb).PackedRows (EltTy.packing .bf16))
def k0_chk35_54 (v1 : BitVec 32) (k0_t51 : Fin (k0_t51_loop v1).trips) (v228 : BitVec 32) (v257 : BitVec 32) : Prop :=
  (∀ k0_t64 : Fin (k0_t64_loop v228 v257).trips, ∀ a, (k0_off3375 v1 k0_t51 v228 v257 k0_t64) a + S1x1x1x16x128.size a ≤ S2x2x108x128x128.size a) ∧
  (∀ k0_t64 : Fin (k0_t64_loop v228 v257).trips, ∀ (hinb : ∀ a, (k0_off3375 v1 k0_t51 v228 v257 k0_t64) a + S1x1x1x16x128.size a ≤ S2x2x108x128x128.size a), (Rect.unit (s := S2x2x108x128x128) (k0_off3375 v1 k0_t51 v228 v257 k0_t64) S1x1x1x16x128.size hinb).PackedRows (EltTy.packing .bf16)) ∧
  (∀ k0_t64 : Fin (k0_t64_loop v228 v257).trips, ∀ a, (k0_off3376 v1 k0_t51 v228 v257 k0_t64) a + S1x1x1x16x128.size a ≤ S2x2x108x128x128.size a) ∧
  (∀ k0_t64 : Fin (k0_t64_loop v228 v257).trips, ∀ (hinb : ∀ a, (k0_off3376 v1 k0_t51 v228 v257 k0_t64) a + S1x1x1x16x128.size a ≤ S2x2x108x128x128.size a), (Rect.unit (s := S2x2x108x128x128) (k0_off3376 v1 k0_t51 v228 v257 k0_t64) S1x1x1x16x128.size hinb).PackedRows (EltTy.packing .bf16)) ∧
  (∀ k0_t64 : Fin (k0_t64_loop v228 v257).trips, ∀ a, (k0_off3377 v1 k0_t51 v228 v257 k0_t64) a + S1x1x1x16x128.size a ≤ S2x2x108x128x128.size a) ∧
  (∀ k0_t64 : Fin (k0_t64_loop v228 v257).trips, ∀ (hinb : ∀ a, (k0_off3377 v1 k0_t51 v228 v257 k0_t64) a + S1x1x1x16x128.size a ≤ S2x2x108x128x128.size a), (Rect.unit (s := S2x2x108x128x128) (k0_off3377 v1 k0_t51 v228 v257 k0_t64) S1x1x1x16x128.size hinb).PackedRows (EltTy.packing .bf16)) ∧
  (∀ k0_t64 : Fin (k0_t64_loop v228 v257).trips, ∀ a, (k0_off3378 v1 k0_t51 v228 v257 k0_t64) a + S1x1x1x16x128.size a ≤ S2x2x108x128x128.size a) ∧
  (∀ k0_t64 : Fin (k0_t64_loop v228 v257).trips, ∀ (hinb : ∀ a, (k0_off3378 v1 k0_t51 v228 v257 k0_t64) a + S1x1x1x16x128.size a ≤ S2x2x108x128x128.size a), (Rect.unit (s := S2x2x108x128x128) (k0_off3378 v1 k0_t51 v228 v257 k0_t64) S1x1x1x16x128.size hinb).PackedRows (EltTy.packing .bf16)) ∧
  (∀ k0_t64 : Fin (k0_t64_loop v228 v257).trips, ∀ a, (k0_off3379 v1 k0_t51 v228 v257 k0_t64) a + S1x1x1x16x128.size a ≤ S2x2x108x128x128.size a) ∧
  (∀ k0_t64 : Fin (k0_t64_loop v228 v257).trips, ∀ (hinb : ∀ a, (k0_off3379 v1 k0_t51 v228 v257 k0_t64) a + S1x1x1x16x128.size a ≤ S2x2x108x128x128.size a), (Rect.unit (s := S2x2x108x128x128) (k0_off3379 v1 k0_t51 v228 v257 k0_t64) S1x1x1x16x128.size hinb).PackedRows (EltTy.packing .bf16)) ∧
  (∀ k0_t64 : Fin (k0_t64_loop v228 v257).trips, ∀ a, (k0_off3380 v1 k0_t51 v228 v257 k0_t64) a + S1x1x1x16x128.size a ≤ S2x2x108x128x128.size a) ∧
  (∀ k0_t64 : Fin (k0_t64_loop v228 v257).trips, ∀ (hinb : ∀ a, (k0_off3380 v1 k0_t51 v228 v257 k0_t64) a + S1x1x1x16x128.size a ≤ S2x2x108x128x128.size a), (Rect.unit (s := S2x2x108x128x128) (k0_off3380 v1 k0_t51 v228 v257 k0_t64) S1x1x1x16x128.size hinb).PackedRows (EltTy.packing .bf16)) ∧
  (∀ k0_t64 : Fin (k0_t64_loop v228 v257).trips, ∀ a, (k0_off3381 v1 k0_t51 v228 v257 k0_t64) a + S1x1x1x16x128.size a ≤ S2x2x108x128x128.size a) ∧
  (∀ k0_t64 : Fin (k0_t64_loop v228 v257).trips, ∀ (hinb : ∀ a, (k0_off3381 v1 k0_t51 v228 v257 k0_t64) a + S1x1x1x16x128.size a ≤ S2x2x108x128x128.size a), (Rect.unit (s := S2x2x108x128x128) (k0_off3381 v1 k0_t51 v228 v257 k0_t64) S1x1x1x16x128.size hinb).PackedRows (EltTy.packing .bf16)) ∧
  (∀ k0_t64 : Fin (k0_t64_loop v228 v257).trips, ∀ a, (k0_off3382 v1 k0_t51 v228 v257 k0_t64) a + S1x1x1x16x128.size a ≤ S2x2x108x128x128.size a) ∧
  (∀ k0_t64 : Fin (k0_t64_loop v228 v257).trips, ∀ (hinb : ∀ a, (k0_off3382 v1 k0_t51 v228 v257 k0_t64) a + S1x1x1x16x128.size a ≤ S2x2x108x128x128.size a), (Rect.unit (s := S2x2x108x128x128) (k0_off3382 v1 k0_t51 v228 v257 k0_t64) S1x1x1x16x128.size hinb).PackedRows (EltTy.packing .bf16)) ∧
  (∀ k0_t64 : Fin (k0_t64_loop v228 v257).trips, ∀ a, (k0_off3383 v1 k0_t51 v228 v257 k0_t64) a + S1x1x1x16x128.size a ≤ S2x2x108x128x128.size a) ∧
  (∀ k0_t64 : Fin (k0_t64_loop v228 v257).trips, ∀ (hinb : ∀ a, (k0_off3383 v1 k0_t51 v228 v257 k0_t64) a + S1x1x1x16x128.size a ≤ S2x2x108x128x128.size a), (Rect.unit (s := S2x2x108x128x128) (k0_off3383 v1 k0_t51 v228 v257 k0_t64) S1x1x1x16x128.size hinb).PackedRows (EltTy.packing .bf16)) ∧
  (∀ k0_t64 : Fin (k0_t64_loop v228 v257).trips, ∀ a, (k0_off3384 v1 k0_t51 v228 v257 k0_t64) a + S1x1x1x16x128.size a ≤ S2x2x108x128x128.size a) ∧
  (∀ k0_t64 : Fin (k0_t64_loop v228 v257).trips, ∀ (hinb : ∀ a, (k0_off3384 v1 k0_t51 v228 v257 k0_t64) a + S1x1x1x16x128.size a ≤ S2x2x108x128x128.size a), (Rect.unit (s := S2x2x108x128x128) (k0_off3384 v1 k0_t51 v228 v257 k0_t64) S1x1x1x16x128.size hinb).PackedRows (EltTy.packing .bf16)) ∧
  (∀ k0_t64 : Fin (k0_t64_loop v228 v257).trips, ∀ a, (k0_off3385 v1 k0_t51 v228 v257 k0_t64) a + S1x1x1x16x128.size a ≤ S2x2x108x128x128.size a) ∧
  (∀ k0_t64 : Fin (k0_t64_loop v228 v257).trips, ∀ (hinb : ∀ a, (k0_off3385 v1 k0_t51 v228 v257 k0_t64) a + S1x1x1x16x128.size a ≤ S2x2x108x128x128.size a), (Rect.unit (s := S2x2x108x128x128) (k0_off3385 v1 k0_t51 v228 v257 k0_t64) S1x1x1x16x128.size hinb).PackedRows (EltTy.packing .bf16)) ∧
  (∀ k0_t64 : Fin (k0_t64_loop v228 v257).trips, ∀ a, (k0_off3386 v1 k0_t51 v228 v257 k0_t64) a + S1x1x1x16x128.size a ≤ S2x2x108x128x128.size a) ∧
  (∀ k0_t64 : Fin (k0_t64_loop v228 v257).trips, ∀ (hinb : ∀ a, (k0_off3386 v1 k0_t51 v228 v257 k0_t64) a + S1x1x1x16x128.size a ≤ S2x2x108x128x128.size a), (Rect.unit (s := S2x2x108x128x128) (k0_off3386 v1 k0_t51 v228 v257 k0_t64) S1x1x1x16x128.size hinb).PackedRows (EltTy.packing .bf16)) ∧
  (∀ k0_t64 : Fin (k0_t64_loop v228 v257).trips, ∀ a, (k0_off3387 v1 k0_t51 v228 v257 k0_t64) a + S1x1x1x16x128.size a ≤ S2x2x108x128x128.size a) ∧
  (∀ k0_t64 : Fin (k0_t64_loop v228 v257).trips, ∀ (hinb : ∀ a, (k0_off3387 v1 k0_t51 v228 v257 k0_t64) a + S1x1x1x16x128.size a ≤ S2x2x108x128x128.size a), (Rect.unit (s := S2x2x108x128x128) (k0_off3387 v1 k0_t51 v228 v257 k0_t64) S1x1x1x16x128.size hinb).PackedRows (EltTy.packing .bf16)) ∧
  (∀ k0_t64 : Fin (k0_t64_loop v228 v257).trips, ∀ a, (k0_off3388 v1 k0_t51 v228 v257 k0_t64) a + S1x1x1x16x128.size a ≤ S2x2x108x128x128.size a) ∧
  (∀ k0_t64 : Fin (k0_t64_loop v228 v257).trips, ∀ (hinb : ∀ a, (k0_off3388 v1 k0_t51 v228 v257 k0_t64) a + S1x1x1x16x128.size a ≤ S2x2x108x128x128.size a), (Rect.unit (s := S2x2x108x128x128) (k0_off3388 v1 k0_t51 v228 v257 k0_t64) S1x1x1x16x128.size hinb).PackedRows (EltTy.packing .bf16)) ∧
  (∀ k0_t64 : Fin (k0_t64_loop v228 v257).trips, ∀ a, (k0_off3389 v1 k0_t51 v228 v257 k0_t64) a + S1x1x1x16x128.size a ≤ S2x2x108x128x128.size a) ∧
  (∀ k0_t64 : Fin (k0_t64_loop v228 v257).trips, ∀ (hinb : ∀ a, (k0_off3389 v1 k0_t51 v228 v257 k0_t64) a + S1x1x1x16x128.size a ≤ S2x2x108x128x128.size a), (Rect.unit (s := S2x2x108x128x128) (k0_off3389 v1 k0_t51 v228 v257 k0_t64) S1x1x1x16x128.size hinb).PackedRows (EltTy.packing .bf16)) ∧
  (∀ k0_t64 : Fin (k0_t64_loop v228 v257).trips, ∀ a, (k0_off3390 v1 k0_t51 v228 v257 k0_t64) a + S1x1x1x16x128.size a ≤ S2x2x108x128x128.size a) ∧
  (∀ k0_t64 : Fin (k0_t64_loop v228 v257).trips, ∀ (hinb : ∀ a, (k0_off3390 v1 k0_t51 v228 v257 k0_t64) a + S1x1x1x16x128.size a ≤ S2x2x108x128x128.size a), (Rect.unit (s := S2x2x108x128x128) (k0_off3390 v1 k0_t51 v228 v257 k0_t64) S1x1x1x16x128.size hinb).PackedRows (EltTy.packing .bf16))
def k0_chk35_55 (v1 : BitVec 32) (k0_t51 : Fin (k0_t51_loop v1).trips) (v228 : BitVec 32) (v257 : BitVec 32) : Prop :=
  (∀ k0_t64 : Fin (k0_t64_loop v228 v257).trips, ∀ a, (k0_off3391 v1 k0_t51 v228 v257 k0_t64) a + S1x1x1x16x128.size a ≤ S2x2x108x128x128.size a) ∧
  (∀ k0_t64 : Fin (k0_t64_loop v228 v257).trips, ∀ (hinb : ∀ a, (k0_off3391 v1 k0_t51 v228 v257 k0_t64) a + S1x1x1x16x128.size a ≤ S2x2x108x128x128.size a), (Rect.unit (s := S2x2x108x128x128) (k0_off3391 v1 k0_t51 v228 v257 k0_t64) S1x1x1x16x128.size hinb).PackedRows (EltTy.packing .bf16)) ∧
  (∀ k0_t64 : Fin (k0_t64_loop v228 v257).trips, ∀ a, (k0_off3392 v1 k0_t51 v228 v257 k0_t64) a + S1x1x1x16x128.size a ≤ S2x2x108x128x128.size a) ∧
  (∀ k0_t64 : Fin (k0_t64_loop v228 v257).trips, ∀ (hinb : ∀ a, (k0_off3392 v1 k0_t51 v228 v257 k0_t64) a + S1x1x1x16x128.size a ≤ S2x2x108x128x128.size a), (Rect.unit (s := S2x2x108x128x128) (k0_off3392 v1 k0_t51 v228 v257 k0_t64) S1x1x1x16x128.size hinb).PackedRows (EltTy.packing .bf16)) ∧
  (∀ k0_t64 : Fin (k0_t64_loop v228 v257).trips, ∀ a, (k0_off3393 v1 k0_t51 v228 v257 k0_t64) a + S1x1x1x16x128.size a ≤ S2x2x108x128x128.size a) ∧
  (∀ k0_t64 : Fin (k0_t64_loop v228 v257).trips, ∀ (hinb : ∀ a, (k0_off3393 v1 k0_t51 v228 v257 k0_t64) a + S1x1x1x16x128.size a ≤ S2x2x108x128x128.size a), (Rect.unit (s := S2x2x108x128x128) (k0_off3393 v1 k0_t51 v228 v257 k0_t64) S1x1x1x16x128.size hinb).PackedRows (EltTy.packing .bf16)) ∧
  ((k0_t65_loop v228 v257).OK) ∧
  (∀ k0_t65 : Fin (k0_t65_loop v228 v257).trips, 16 ∣ (k0_mult27 v228 v257 k0_t65).toNat) ∧
  (∀ k0_t65 : Fin (k0_t65_loop v228 v257).trips, ∀ a, (k0_off3394 v1 k0_t51 v228 v257 k0_t65) a + S1x1x1x16x128.size a ≤ S2x2x108x128x128.size a) ∧
  (∀ k0_t65 : Fin (k0_t65_loop v228 v257).trips, ∀ (hinb : ∀ a, (k0_off3394 v1 k0_t51 v228 v257 k0_t65) a + S1x1x1x16x128.size a ≤ S2x2x108x128x128.size a), (Rect.unit (s := S2x2x108x128x128) (k0_off3394 v1 k0_t51 v228 v257 k0_t65) S1x1x1x16x128.size hinb).PackedRows (EltTy.packing .bf16)) ∧
  (∀ k0_t65 : Fin (k0_t65_loop v228 v257).trips, ∀ a, (k0_off3395 v1 k0_t51 v228 v257 k0_t65) a + S1x1x1x16x128.size a ≤ S2x2x108x128x128.size a) ∧
  (∀ k0_t65 : Fin (k0_t65_loop v228 v257).trips, ∀ (hinb : ∀ a, (k0_off3395 v1 k0_t51 v228 v257 k0_t65) a + S1x1x1x16x128.size a ≤ S2x2x108x128x128.size a), (Rect.unit (s := S2x2x108x128x128) (k0_off3395 v1 k0_t51 v228 v257 k0_t65) S1x1x1x16x128.size hinb).PackedRows (EltTy.packing .bf16)) ∧
  (∀ k0_t65 : Fin (k0_t65_loop v228 v257).trips, ∀ a, (k0_off3396 v1 k0_t51 v228 v257 k0_t65) a + S1x1x1x16x128.size a ≤ S2x2x108x128x128.size a) ∧
  (∀ k0_t65 : Fin (k0_t65_loop v228 v257).trips, ∀ (hinb : ∀ a, (k0_off3396 v1 k0_t51 v228 v257 k0_t65) a + S1x1x1x16x128.size a ≤ S2x2x108x128x128.size a), (Rect.unit (s := S2x2x108x128x128) (k0_off3396 v1 k0_t51 v228 v257 k0_t65) S1x1x1x16x128.size hinb).PackedRows (EltTy.packing .bf16)) ∧
  (∀ k0_t65 : Fin (k0_t65_loop v228 v257).trips, ∀ a, (k0_off3397 v1 k0_t51 v228 v257 k0_t65) a + S1x1x1x16x128.size a ≤ S2x2x108x128x128.size a) ∧
  (∀ k0_t65 : Fin (k0_t65_loop v228 v257).trips, ∀ (hinb : ∀ a, (k0_off3397 v1 k0_t51 v228 v257 k0_t65) a + S1x1x1x16x128.size a ≤ S2x2x108x128x128.size a), (Rect.unit (s := S2x2x108x128x128) (k0_off3397 v1 k0_t51 v228 v257 k0_t65) S1x1x1x16x128.size hinb).PackedRows (EltTy.packing .bf16)) ∧
  (∀ k0_t65 : Fin (k0_t65_loop v228 v257).trips, ∀ a, (k0_off3398 v1 k0_t51 v228 v257 k0_t65) a + S1x1x1x16x128.size a ≤ S2x2x108x128x128.size a) ∧
  (∀ k0_t65 : Fin (k0_t65_loop v228 v257).trips, ∀ (hinb : ∀ a, (k0_off3398 v1 k0_t51 v228 v257 k0_t65) a + S1x1x1x16x128.size a ≤ S2x2x108x128x128.size a), (Rect.unit (s := S2x2x108x128x128) (k0_off3398 v1 k0_t51 v228 v257 k0_t65) S1x1x1x16x128.size hinb).PackedRows (EltTy.packing .bf16)) ∧
  (∀ k0_t65 : Fin (k0_t65_loop v228 v257).trips, ∀ a, (k0_off3399 v1 k0_t51 v228 v257 k0_t65) a + S1x1x1x16x128.size a ≤ S2x2x108x128x128.size a) ∧
  (∀ k0_t65 : Fin (k0_t65_loop v228 v257).trips, ∀ (hinb : ∀ a, (k0_off3399 v1 k0_t51 v228 v257 k0_t65) a + S1x1x1x16x128.size a ≤ S2x2x108x128x128.size a), (Rect.unit (s := S2x2x108x128x128) (k0_off3399 v1 k0_t51 v228 v257 k0_t65) S1x1x1x16x128.size hinb).PackedRows (EltTy.packing .bf16)) ∧
  (∀ k0_t65 : Fin (k0_t65_loop v228 v257).trips, ∀ a, (k0_off3400 v1 k0_t51 v228 v257 k0_t65) a + S1x1x1x16x128.size a ≤ S2x2x108x128x128.size a) ∧
  (∀ k0_t65 : Fin (k0_t65_loop v228 v257).trips, ∀ (hinb : ∀ a, (k0_off3400 v1 k0_t51 v228 v257 k0_t65) a + S1x1x1x16x128.size a ≤ S2x2x108x128x128.size a), (Rect.unit (s := S2x2x108x128x128) (k0_off3400 v1 k0_t51 v228 v257 k0_t65) S1x1x1x16x128.size hinb).PackedRows (EltTy.packing .bf16)) ∧
  (∀ k0_t65 : Fin (k0_t65_loop v228 v257).trips, ∀ a, (k0_off3401 v1 k0_t51 v228 v257 k0_t65) a + S1x1x1x16x128.size a ≤ S2x2x108x128x128.size a) ∧
  (∀ k0_t65 : Fin (k0_t65_loop v228 v257).trips, ∀ (hinb : ∀ a, (k0_off3401 v1 k0_t51 v228 v257 k0_t65) a + S1x1x1x16x128.size a ≤ S2x2x108x128x128.size a), (Rect.unit (s := S2x2x108x128x128) (k0_off3401 v1 k0_t51 v228 v257 k0_t65) S1x1x1x16x128.size hinb).PackedRows (EltTy.packing .bf16)) ∧
  (∀ k0_t65 : Fin (k0_t65_loop v228 v257).trips, ∀ a, (k0_off3402 v1 k0_t51 v228 v257 k0_t65) a + S1x1x1x16x128.size a ≤ S2x2x108x128x128.size a) ∧
  (∀ k0_t65 : Fin (k0_t65_loop v228 v257).trips, ∀ (hinb : ∀ a, (k0_off3402 v1 k0_t51 v228 v257 k0_t65) a + S1x1x1x16x128.size a ≤ S2x2x108x128x128.size a), (Rect.unit (s := S2x2x108x128x128) (k0_off3402 v1 k0_t51 v228 v257 k0_t65) S1x1x1x16x128.size hinb).PackedRows (EltTy.packing .bf16)) ∧
  (∀ k0_t65 : Fin (k0_t65_loop v228 v257).trips, ∀ a, (k0_off3403 v1 k0_t51 v228 v257 k0_t65) a + S1x1x1x16x128.size a ≤ S2x2x108x128x128.size a) ∧
  (∀ k0_t65 : Fin (k0_t65_loop v228 v257).trips, ∀ (hinb : ∀ a, (k0_off3403 v1 k0_t51 v228 v257 k0_t65) a + S1x1x1x16x128.size a ≤ S2x2x108x128x128.size a), (Rect.unit (s := S2x2x108x128x128) (k0_off3403 v1 k0_t51 v228 v257 k0_t65) S1x1x1x16x128.size hinb).PackedRows (EltTy.packing .bf16)) ∧
  (∀ k0_t65 : Fin (k0_t65_loop v228 v257).trips, ∀ a, (k0_off3404 v1 k0_t51 v228 v257 k0_t65) a + S1x1x1x16x128.size a ≤ S2x2x108x128x128.size a) ∧
  (∀ k0_t65 : Fin (k0_t65_loop v228 v257).trips, ∀ (hinb : ∀ a, (k0_off3404 v1 k0_t51 v228 v257 k0_t65) a + S1x1x1x16x128.size a ≤ S2x2x108x128x128.size a), (Rect.unit (s := S2x2x108x128x128) (k0_off3404 v1 k0_t51 v228 v257 k0_t65) S1x1x1x16x128.size hinb).PackedRows (EltTy.packing .bf16)) ∧
  (∀ k0_t65 : Fin (k0_t65_loop v228 v257).trips, ∀ a, (k0_off3405 v1 k0_t51 v228 v257 k0_t65) a + S1x1x1x16x128.size a ≤ S2x2x108x128x128.size a) ∧
  (∀ k0_t65 : Fin (k0_t65_loop v228 v257).trips, ∀ (hinb : ∀ a, (k0_off3405 v1 k0_t51 v228 v257 k0_t65) a + S1x1x1x16x128.size a ≤ S2x2x108x128x128.size a), (Rect.unit (s := S2x2x108x128x128) (k0_off3405 v1 k0_t51 v228 v257 k0_t65) S1x1x1x16x128.size hinb).PackedRows (EltTy.packing .bf16))
def k0_chk35_56 (v1 : BitVec 32) (k0_t51 : Fin (k0_t51_loop v1).trips) (v228 : BitVec 32) (v257 : BitVec 32) : Prop :=
  (∀ k0_t65 : Fin (k0_t65_loop v228 v257).trips, ∀ a, (k0_off3406 v1 k0_t51 v228 v257 k0_t65) a + S1x1x1x16x128.size a ≤ S2x2x108x128x128.size a) ∧
  (∀ k0_t65 : Fin (k0_t65_loop v228 v257).trips, ∀ (hinb : ∀ a, (k0_off3406 v1 k0_t51 v228 v257 k0_t65) a + S1x1x1x16x128.size a ≤ S2x2x108x128x128.size a), (Rect.unit (s := S2x2x108x128x128) (k0_off3406 v1 k0_t51 v228 v257 k0_t65) S1x1x1x16x128.size hinb).PackedRows (EltTy.packing .bf16)) ∧
  (∀ k0_t65 : Fin (k0_t65_loop v228 v257).trips, ∀ a, (k0_off3407 v1 k0_t51 v228 v257 k0_t65) a + S1x1x1x16x128.size a ≤ S2x2x108x128x128.size a) ∧
  (∀ k0_t65 : Fin (k0_t65_loop v228 v257).trips, ∀ (hinb : ∀ a, (k0_off3407 v1 k0_t51 v228 v257 k0_t65) a + S1x1x1x16x128.size a ≤ S2x2x108x128x128.size a), (Rect.unit (s := S2x2x108x128x128) (k0_off3407 v1 k0_t51 v228 v257 k0_t65) S1x1x1x16x128.size hinb).PackedRows (EltTy.packing .bf16)) ∧
  (∀ k0_t65 : Fin (k0_t65_loop v228 v257).trips, ∀ a, (k0_off3408 v1 k0_t51 v228 v257 k0_t65) a + S1x1x1x16x128.size a ≤ S2x2x108x128x128.size a) ∧
  (∀ k0_t65 : Fin (k0_t65_loop v228 v257).trips, ∀ (hinb : ∀ a, (k0_off3408 v1 k0_t51 v228 v257 k0_t65) a + S1x1x1x16x128.size a ≤ S2x2x108x128x128.size a), (Rect.unit (s := S2x2x108x128x128) (k0_off3408 v1 k0_t51 v228 v257 k0_t65) S1x1x1x16x128.size hinb).PackedRows (EltTy.packing .bf16)) ∧
  (∀ k0_t65 : Fin (k0_t65_loop v228 v257).trips, ∀ a, (k0_off3409 v1 k0_t51 v228 v257 k0_t65) a + S1x1x1x16x128.size a ≤ S2x2x108x128x128.size a) ∧
  (∀ k0_t65 : Fin (k0_t65_loop v228 v257).trips, ∀ (hinb : ∀ a, (k0_off3409 v1 k0_t51 v228 v257 k0_t65) a + S1x1x1x16x128.size a ≤ S2x2x108x128x128.size a), (Rect.unit (s := S2x2x108x128x128) (k0_off3409 v1 k0_t51 v228 v257 k0_t65) S1x1x1x16x128.size hinb).PackedRows (EltTy.packing .bf16)) ∧
  (∀ k0_t65 : Fin (k0_t65_loop v228 v257).trips, ∀ a, (k0_off3410 v1 k0_t51 v228 v257 k0_t65) a + S1x1x1x16x128.size a ≤ S2x2x108x128x128.size a) ∧
  (∀ k0_t65 : Fin (k0_t65_loop v228 v257).trips, ∀ (hinb : ∀ a, (k0_off3410 v1 k0_t51 v228 v257 k0_t65) a + S1x1x1x16x128.size a ≤ S2x2x108x128x128.size a), (Rect.unit (s := S2x2x108x128x128) (k0_off3410 v1 k0_t51 v228 v257 k0_t65) S1x1x1x16x128.size hinb).PackedRows (EltTy.packing .bf16)) ∧
  (∀ k0_t65 : Fin (k0_t65_loop v228 v257).trips, ∀ a, (k0_off3411 v1 k0_t51 v228 v257 k0_t65) a + S1x1x1x16x128.size a ≤ S2x2x108x128x128.size a) ∧
  (∀ k0_t65 : Fin (k0_t65_loop v228 v257).trips, ∀ (hinb : ∀ a, (k0_off3411 v1 k0_t51 v228 v257 k0_t65) a + S1x1x1x16x128.size a ≤ S2x2x108x128x128.size a), (Rect.unit (s := S2x2x108x128x128) (k0_off3411 v1 k0_t51 v228 v257 k0_t65) S1x1x1x16x128.size hinb).PackedRows (EltTy.packing .bf16)) ∧
  (∀ k0_t65 : Fin (k0_t65_loop v228 v257).trips, ∀ a, (k0_off3412 v1 k0_t51 v228 v257 k0_t65) a + S1x1x1x16x128.size a ≤ S2x2x108x128x128.size a) ∧
  (∀ k0_t65 : Fin (k0_t65_loop v228 v257).trips, ∀ (hinb : ∀ a, (k0_off3412 v1 k0_t51 v228 v257 k0_t65) a + S1x1x1x16x128.size a ≤ S2x2x108x128x128.size a), (Rect.unit (s := S2x2x108x128x128) (k0_off3412 v1 k0_t51 v228 v257 k0_t65) S1x1x1x16x128.size hinb).PackedRows (EltTy.packing .bf16)) ∧
  (∀ k0_t65 : Fin (k0_t65_loop v228 v257).trips, ∀ a, (k0_off3413 v1 k0_t51 v228 v257 k0_t65) a + S1x1x1x16x128.size a ≤ S2x2x108x128x128.size a) ∧
  (∀ k0_t65 : Fin (k0_t65_loop v228 v257).trips, ∀ (hinb : ∀ a, (k0_off3413 v1 k0_t51 v228 v257 k0_t65) a + S1x1x1x16x128.size a ≤ S2x2x108x128x128.size a), (Rect.unit (s := S2x2x108x128x128) (k0_off3413 v1 k0_t51 v228 v257 k0_t65) S1x1x1x16x128.size hinb).PackedRows (EltTy.packing .bf16)) ∧
  (∀ k0_t65 : Fin (k0_t65_loop v228 v257).trips, ∀ a, (k0_off3414 v1 k0_t51 v228 v257 k0_t65) a + S1x1x1x16x128.size a ≤ S2x2x108x128x128.size a) ∧
  (∀ k0_t65 : Fin (k0_t65_loop v228 v257).trips, ∀ (hinb : ∀ a, (k0_off3414 v1 k0_t51 v228 v257 k0_t65) a + S1x1x1x16x128.size a ≤ S2x2x108x128x128.size a), (Rect.unit (s := S2x2x108x128x128) (k0_off3414 v1 k0_t51 v228 v257 k0_t65) S1x1x1x16x128.size hinb).PackedRows (EltTy.packing .bf16)) ∧
  (∀ k0_t65 : Fin (k0_t65_loop v228 v257).trips, ∀ a, (k0_off3415 v1 k0_t51 v228 v257 k0_t65) a + S1x1x1x16x128.size a ≤ S2x2x108x128x128.size a) ∧
  (∀ k0_t65 : Fin (k0_t65_loop v228 v257).trips, ∀ (hinb : ∀ a, (k0_off3415 v1 k0_t51 v228 v257 k0_t65) a + S1x1x1x16x128.size a ≤ S2x2x108x128x128.size a), (Rect.unit (s := S2x2x108x128x128) (k0_off3415 v1 k0_t51 v228 v257 k0_t65) S1x1x1x16x128.size hinb).PackedRows (EltTy.packing .bf16)) ∧
  (∀ k0_t65 : Fin (k0_t65_loop v228 v257).trips, ∀ a, (k0_off3416 v1 k0_t51 v228 v257 k0_t65) a + S1x1x1x16x128.size a ≤ S2x2x108x128x128.size a) ∧
  (∀ k0_t65 : Fin (k0_t65_loop v228 v257).trips, ∀ (hinb : ∀ a, (k0_off3416 v1 k0_t51 v228 v257 k0_t65) a + S1x1x1x16x128.size a ≤ S2x2x108x128x128.size a), (Rect.unit (s := S2x2x108x128x128) (k0_off3416 v1 k0_t51 v228 v257 k0_t65) S1x1x1x16x128.size hinb).PackedRows (EltTy.packing .bf16)) ∧
  (∀ k0_t65 : Fin (k0_t65_loop v228 v257).trips, ∀ a, (k0_off3417 v1 k0_t51 v228 v257 k0_t65) a + S1x1x1x16x128.size a ≤ S2x2x108x128x128.size a) ∧
  (∀ k0_t65 : Fin (k0_t65_loop v228 v257).trips, ∀ (hinb : ∀ a, (k0_off3417 v1 k0_t51 v228 v257 k0_t65) a + S1x1x1x16x128.size a ≤ S2x2x108x128x128.size a), (Rect.unit (s := S2x2x108x128x128) (k0_off3417 v1 k0_t51 v228 v257 k0_t65) S1x1x1x16x128.size hinb).PackedRows (EltTy.packing .bf16)) ∧
  (∀ k0_t65 : Fin (k0_t65_loop v228 v257).trips, ∀ a, (k0_off3418 v1 k0_t51 v228 v257 k0_t65) a + S1x1x1x16x128.size a ≤ S2x2x108x128x128.size a) ∧
  (∀ k0_t65 : Fin (k0_t65_loop v228 v257).trips, ∀ (hinb : ∀ a, (k0_off3418 v1 k0_t51 v228 v257 k0_t65) a + S1x1x1x16x128.size a ≤ S2x2x108x128x128.size a), (Rect.unit (s := S2x2x108x128x128) (k0_off3418 v1 k0_t51 v228 v257 k0_t65) S1x1x1x16x128.size hinb).PackedRows (EltTy.packing .bf16)) ∧
  (∀ k0_t65 : Fin (k0_t65_loop v228 v257).trips, ∀ a, (k0_off3419 v1 k0_t51 v228 v257 k0_t65) a + S1x1x1x16x128.size a ≤ S2x2x108x128x128.size a) ∧
  (∀ k0_t65 : Fin (k0_t65_loop v228 v257).trips, ∀ (hinb : ∀ a, (k0_off3419 v1 k0_t51 v228 v257 k0_t65) a + S1x1x1x16x128.size a ≤ S2x2x108x128x128.size a), (Rect.unit (s := S2x2x108x128x128) (k0_off3419 v1 k0_t51 v228 v257 k0_t65) S1x1x1x16x128.size hinb).PackedRows (EltTy.packing .bf16)) ∧
  (∀ k0_t65 : Fin (k0_t65_loop v228 v257).trips, ∀ a, (k0_off3420 v1 k0_t51 v228 v257 k0_t65) a + S1x1x1x16x128.size a ≤ S2x2x108x128x128.size a) ∧
  (∀ k0_t65 : Fin (k0_t65_loop v228 v257).trips, ∀ (hinb : ∀ a, (k0_off3420 v1 k0_t51 v228 v257 k0_t65) a + S1x1x1x16x128.size a ≤ S2x2x108x128x128.size a), (Rect.unit (s := S2x2x108x128x128) (k0_off3420 v1 k0_t51 v228 v257 k0_t65) S1x1x1x16x128.size hinb).PackedRows (EltTy.packing .bf16)) ∧
  (∀ k0_t65 : Fin (k0_t65_loop v228 v257).trips, ∀ a, (k0_off3421 v1 k0_t51 v228 v257 k0_t65) a + S1x1x1x16x128.size a ≤ S2x2x108x128x128.size a) ∧
  (∀ k0_t65 : Fin (k0_t65_loop v228 v257).trips, ∀ (hinb : ∀ a, (k0_off3421 v1 k0_t51 v228 v257 k0_t65) a + S1x1x1x16x128.size a ≤ S2x2x108x128x128.size a), (Rect.unit (s := S2x2x108x128x128) (k0_off3421 v1 k0_t51 v228 v257 k0_t65) S1x1x1x16x128.size hinb).PackedRows (EltTy.packing .bf16))
def k0_chk35_57 (v1 : BitVec 32) (k0_t51 : Fin (k0_t51_loop v1).trips) (v228 : BitVec 32) (v257 : BitVec 32) : Prop :=
  (∀ k0_t65 : Fin (k0_t65_loop v228 v257).trips, ∀ a, (k0_off3422 v1 k0_t51 v228 v257 k0_t65) a + S1x1x1x16x128.size a ≤ S2x2x108x128x128.size a) ∧
  (∀ k0_t65 : Fin (k0_t65_loop v228 v257).trips, ∀ (hinb : ∀ a, (k0_off3422 v1 k0_t51 v228 v257 k0_t65) a + S1x1x1x16x128.size a ≤ S2x2x108x128x128.size a), (Rect.unit (s := S2x2x108x128x128) (k0_off3422 v1 k0_t51 v228 v257 k0_t65) S1x1x1x16x128.size hinb).PackedRows (EltTy.packing .bf16)) ∧
  (∀ k0_t65 : Fin (k0_t65_loop v228 v257).trips, ∀ a, (k0_off3423 v1 k0_t51 v228 v257 k0_t65) a + S1x1x1x16x128.size a ≤ S2x2x108x128x128.size a) ∧
  (∀ k0_t65 : Fin (k0_t65_loop v228 v257).trips, ∀ (hinb : ∀ a, (k0_off3423 v1 k0_t51 v228 v257 k0_t65) a + S1x1x1x16x128.size a ≤ S2x2x108x128x128.size a), (Rect.unit (s := S2x2x108x128x128) (k0_off3423 v1 k0_t51 v228 v257 k0_t65) S1x1x1x16x128.size hinb).PackedRows (EltTy.packing .bf16)) ∧
  (∀ k0_t65 : Fin (k0_t65_loop v228 v257).trips, ∀ a, (k0_off3424 v1 k0_t51 v228 v257 k0_t65) a + S1x1x1x16x128.size a ≤ S2x2x108x128x128.size a) ∧
  (∀ k0_t65 : Fin (k0_t65_loop v228 v257).trips, ∀ (hinb : ∀ a, (k0_off3424 v1 k0_t51 v228 v257 k0_t65) a + S1x1x1x16x128.size a ≤ S2x2x108x128x128.size a), (Rect.unit (s := S2x2x108x128x128) (k0_off3424 v1 k0_t51 v228 v257 k0_t65) S1x1x1x16x128.size hinb).PackedRows (EltTy.packing .bf16)) ∧
  (∀ k0_t65 : Fin (k0_t65_loop v228 v257).trips, ∀ a, (k0_off3425 v1 k0_t51 v228 v257 k0_t65) a + S1x1x1x16x128.size a ≤ S2x2x108x128x128.size a) ∧
  (∀ k0_t65 : Fin (k0_t65_loop v228 v257).trips, ∀ (hinb : ∀ a, (k0_off3425 v1 k0_t51 v228 v257 k0_t65) a + S1x1x1x16x128.size a ≤ S2x2x108x128x128.size a), (Rect.unit (s := S2x2x108x128x128) (k0_off3425 v1 k0_t51 v228 v257 k0_t65) S1x1x1x16x128.size hinb).PackedRows (EltTy.packing .bf16)) ∧
  (∀ k0_t65 : Fin (k0_t65_loop v228 v257).trips, ∀ a, (k0_off3426 v1 k0_t51 v228 v257 k0_t65) a + S1x1x1x16x128.size a ≤ S2x2x108x128x128.size a) ∧
  (∀ k0_t65 : Fin (k0_t65_loop v228 v257).trips, ∀ (hinb : ∀ a, (k0_off3426 v1 k0_t51 v228 v257 k0_t65) a + S1x1x1x16x128.size a ≤ S2x2x108x128x128.size a), (Rect.unit (s := S2x2x108x128x128) (k0_off3426 v1 k0_t51 v228 v257 k0_t65) S1x1x1x16x128.size hinb).PackedRows (EltTy.packing .bf16)) ∧
  (∀ k0_t65 : Fin (k0_t65_loop v228 v257).trips, ∀ a, (k0_off3427 v1 k0_t51 v228 v257 k0_t65) a + S1x1x1x16x128.size a ≤ S2x2x108x128x128.size a) ∧
  (∀ k0_t65 : Fin (k0_t65_loop v228 v257).trips, ∀ (hinb : ∀ a, (k0_off3427 v1 k0_t51 v228 v257 k0_t65) a + S1x1x1x16x128.size a ≤ S2x2x108x128x128.size a), (Rect.unit (s := S2x2x108x128x128) (k0_off3427 v1 k0_t51 v228 v257 k0_t65) S1x1x1x16x128.size hinb).PackedRows (EltTy.packing .bf16)) ∧
  (∀ k0_t65 : Fin (k0_t65_loop v228 v257).trips, ∀ a, (k0_off3428 v1 k0_t51 v228 v257 k0_t65) a + S1x1x1x16x128.size a ≤ S2x2x108x128x128.size a) ∧
  (∀ k0_t65 : Fin (k0_t65_loop v228 v257).trips, ∀ (hinb : ∀ a, (k0_off3428 v1 k0_t51 v228 v257 k0_t65) a + S1x1x1x16x128.size a ≤ S2x2x108x128x128.size a), (Rect.unit (s := S2x2x108x128x128) (k0_off3428 v1 k0_t51 v228 v257 k0_t65) S1x1x1x16x128.size hinb).PackedRows (EltTy.packing .bf16)) ∧
  (∀ k0_t65 : Fin (k0_t65_loop v228 v257).trips, ∀ a, (k0_off3429 v1 k0_t51 v228 v257 k0_t65) a + S1x1x1x16x128.size a ≤ S2x2x108x128x128.size a) ∧
  (∀ k0_t65 : Fin (k0_t65_loop v228 v257).trips, ∀ (hinb : ∀ a, (k0_off3429 v1 k0_t51 v228 v257 k0_t65) a + S1x1x1x16x128.size a ≤ S2x2x108x128x128.size a), (Rect.unit (s := S2x2x108x128x128) (k0_off3429 v1 k0_t51 v228 v257 k0_t65) S1x1x1x16x128.size hinb).PackedRows (EltTy.packing .bf16)) ∧
  (∀ k0_t65 : Fin (k0_t65_loop v228 v257).trips, ∀ a, (k0_off3430 v1 k0_t51 v228 v257 k0_t65) a + S1x1x1x16x128.size a ≤ S2x2x108x128x128.size a) ∧
  (∀ k0_t65 : Fin (k0_t65_loop v228 v257).trips, ∀ (hinb : ∀ a, (k0_off3430 v1 k0_t51 v228 v257 k0_t65) a + S1x1x1x16x128.size a ≤ S2x2x108x128x128.size a), (Rect.unit (s := S2x2x108x128x128) (k0_off3430 v1 k0_t51 v228 v257 k0_t65) S1x1x1x16x128.size hinb).PackedRows (EltTy.packing .bf16)) ∧
  (∀ k0_t65 : Fin (k0_t65_loop v228 v257).trips, ∀ a, (k0_off3431 v1 k0_t51 v228 v257 k0_t65) a + S1x1x1x16x128.size a ≤ S2x2x108x128x128.size a) ∧
  (∀ k0_t65 : Fin (k0_t65_loop v228 v257).trips, ∀ (hinb : ∀ a, (k0_off3431 v1 k0_t51 v228 v257 k0_t65) a + S1x1x1x16x128.size a ≤ S2x2x108x128x128.size a), (Rect.unit (s := S2x2x108x128x128) (k0_off3431 v1 k0_t51 v228 v257 k0_t65) S1x1x1x16x128.size hinb).PackedRows (EltTy.packing .bf16)) ∧
  (∀ k0_t65 : Fin (k0_t65_loop v228 v257).trips, ∀ a, (k0_off3432 v1 k0_t51 v228 v257 k0_t65) a + S1x1x1x16x128.size a ≤ S2x2x108x128x128.size a) ∧
  (∀ k0_t65 : Fin (k0_t65_loop v228 v257).trips, ∀ (hinb : ∀ a, (k0_off3432 v1 k0_t51 v228 v257 k0_t65) a + S1x1x1x16x128.size a ≤ S2x2x108x128x128.size a), (Rect.unit (s := S2x2x108x128x128) (k0_off3432 v1 k0_t51 v228 v257 k0_t65) S1x1x1x16x128.size hinb).PackedRows (EltTy.packing .bf16)) ∧
  (∀ k0_t65 : Fin (k0_t65_loop v228 v257).trips, ∀ a, (k0_off3433 v1 k0_t51 v228 v257 k0_t65) a + S1x1x1x16x128.size a ≤ S2x2x108x128x128.size a) ∧
  (∀ k0_t65 : Fin (k0_t65_loop v228 v257).trips, ∀ (hinb : ∀ a, (k0_off3433 v1 k0_t51 v228 v257 k0_t65) a + S1x1x1x16x128.size a ≤ S2x2x108x128x128.size a), (Rect.unit (s := S2x2x108x128x128) (k0_off3433 v1 k0_t51 v228 v257 k0_t65) S1x1x1x16x128.size hinb).PackedRows (EltTy.packing .bf16)) ∧
  (∀ k0_t65 : Fin (k0_t65_loop v228 v257).trips, ∀ a, (k0_off3434 v1 k0_t51 v228 v257 k0_t65) a + S1x1x1x16x128.size a ≤ S2x2x108x128x128.size a) ∧
  (∀ k0_t65 : Fin (k0_t65_loop v228 v257).trips, ∀ (hinb : ∀ a, (k0_off3434 v1 k0_t51 v228 v257 k0_t65) a + S1x1x1x16x128.size a ≤ S2x2x108x128x128.size a), (Rect.unit (s := S2x2x108x128x128) (k0_off3434 v1 k0_t51 v228 v257 k0_t65) S1x1x1x16x128.size hinb).PackedRows (EltTy.packing .bf16)) ∧
  (∀ k0_t65 : Fin (k0_t65_loop v228 v257).trips, ∀ a, (k0_off3435 v1 k0_t51 v228 v257 k0_t65) a + S1x1x1x16x128.size a ≤ S2x2x108x128x128.size a) ∧
  (∀ k0_t65 : Fin (k0_t65_loop v228 v257).trips, ∀ (hinb : ∀ a, (k0_off3435 v1 k0_t51 v228 v257 k0_t65) a + S1x1x1x16x128.size a ≤ S2x2x108x128x128.size a), (Rect.unit (s := S2x2x108x128x128) (k0_off3435 v1 k0_t51 v228 v257 k0_t65) S1x1x1x16x128.size hinb).PackedRows (EltTy.packing .bf16)) ∧
  (∀ k0_t65 : Fin (k0_t65_loop v228 v257).trips, ∀ a, (k0_off3436 v1 k0_t51 v228 v257 k0_t65) a + S1x1x1x16x128.size a ≤ S2x2x108x128x128.size a) ∧
  (∀ k0_t65 : Fin (k0_t65_loop v228 v257).trips, ∀ (hinb : ∀ a, (k0_off3436 v1 k0_t51 v228 v257 k0_t65) a + S1x1x1x16x128.size a ≤ S2x2x108x128x128.size a), (Rect.unit (s := S2x2x108x128x128) (k0_off3436 v1 k0_t51 v228 v257 k0_t65) S1x1x1x16x128.size hinb).PackedRows (EltTy.packing .bf16)) ∧
  (∀ k0_t65 : Fin (k0_t65_loop v228 v257).trips, ∀ a, (k0_off3437 v1 k0_t51 v228 v257 k0_t65) a + S1x1x1x16x128.size a ≤ S2x2x108x128x128.size a) ∧
  (∀ k0_t65 : Fin (k0_t65_loop v228 v257).trips, ∀ (hinb : ∀ a, (k0_off3437 v1 k0_t51 v228 v257 k0_t65) a + S1x1x1x16x128.size a ≤ S2x2x108x128x128.size a), (Rect.unit (s := S2x2x108x128x128) (k0_off3437 v1 k0_t51 v228 v257 k0_t65) S1x1x1x16x128.size hinb).PackedRows (EltTy.packing .bf16))
def k0_chk35_58 (v1 : BitVec 32) (k0_t51 : Fin (k0_t51_loop v1).trips) (v228 : BitVec 32) (v257 : BitVec 32) : Prop :=
  (∀ k0_t65 : Fin (k0_t65_loop v228 v257).trips, ∀ a, (k0_off3438 v1 k0_t51 v228 v257 k0_t65) a + S1x1x1x16x128.size a ≤ S2x2x108x128x128.size a) ∧
  (∀ k0_t65 : Fin (k0_t65_loop v228 v257).trips, ∀ (hinb : ∀ a, (k0_off3438 v1 k0_t51 v228 v257 k0_t65) a + S1x1x1x16x128.size a ≤ S2x2x108x128x128.size a), (Rect.unit (s := S2x2x108x128x128) (k0_off3438 v1 k0_t51 v228 v257 k0_t65) S1x1x1x16x128.size hinb).PackedRows (EltTy.packing .bf16)) ∧
  (∀ k0_t65 : Fin (k0_t65_loop v228 v257).trips, ∀ a, (k0_off3439 v1 k0_t51 v228 v257 k0_t65) a + S1x1x1x16x128.size a ≤ S2x2x108x128x128.size a) ∧
  (∀ k0_t65 : Fin (k0_t65_loop v228 v257).trips, ∀ (hinb : ∀ a, (k0_off3439 v1 k0_t51 v228 v257 k0_t65) a + S1x1x1x16x128.size a ≤ S2x2x108x128x128.size a), (Rect.unit (s := S2x2x108x128x128) (k0_off3439 v1 k0_t51 v228 v257 k0_t65) S1x1x1x16x128.size hinb).PackedRows (EltTy.packing .bf16)) ∧
  (∀ k0_t65 : Fin (k0_t65_loop v228 v257).trips, ∀ a, (k0_off3440 v1 k0_t51 v228 v257 k0_t65) a + S1x1x1x16x128.size a ≤ S2x2x108x128x128.size a) ∧
  (∀ k0_t65 : Fin (k0_t65_loop v228 v257).trips, ∀ (hinb : ∀ a, (k0_off3440 v1 k0_t51 v228 v257 k0_t65) a + S1x1x1x16x128.size a ≤ S2x2x108x128x128.size a), (Rect.unit (s := S2x2x108x128x128) (k0_off3440 v1 k0_t51 v228 v257 k0_t65) S1x1x1x16x128.size hinb).PackedRows (EltTy.packing .bf16)) ∧
  (∀ k0_t65 : Fin (k0_t65_loop v228 v257).trips, ∀ a, (k0_off3441 v1 k0_t51 v228 v257 k0_t65) a + S1x1x1x16x128.size a ≤ S2x2x108x128x128.size a) ∧
  (∀ k0_t65 : Fin (k0_t65_loop v228 v257).trips, ∀ (hinb : ∀ a, (k0_off3441 v1 k0_t51 v228 v257 k0_t65) a + S1x1x1x16x128.size a ≤ S2x2x108x128x128.size a), (Rect.unit (s := S2x2x108x128x128) (k0_off3441 v1 k0_t51 v228 v257 k0_t65) S1x1x1x16x128.size hinb).PackedRows (EltTy.packing .bf16)) ∧
  (∀ k0_t65 : Fin (k0_t65_loop v228 v257).trips, ∀ a, (k0_off3442 v1 k0_t51 v228 v257 k0_t65) a + S1x1x1x16x128.size a ≤ S2x2x108x128x128.size a) ∧
  (∀ k0_t65 : Fin (k0_t65_loop v228 v257).trips, ∀ (hinb : ∀ a, (k0_off3442 v1 k0_t51 v228 v257 k0_t65) a + S1x1x1x16x128.size a ≤ S2x2x108x128x128.size a), (Rect.unit (s := S2x2x108x128x128) (k0_off3442 v1 k0_t51 v228 v257 k0_t65) S1x1x1x16x128.size hinb).PackedRows (EltTy.packing .bf16)) ∧
  (∀ k0_t65 : Fin (k0_t65_loop v228 v257).trips, ∀ a, (k0_off3443 v1 k0_t51 v228 v257 k0_t65) a + S1x1x1x16x128.size a ≤ S2x2x108x128x128.size a) ∧
  (∀ k0_t65 : Fin (k0_t65_loop v228 v257).trips, ∀ (hinb : ∀ a, (k0_off3443 v1 k0_t51 v228 v257 k0_t65) a + S1x1x1x16x128.size a ≤ S2x2x108x128x128.size a), (Rect.unit (s := S2x2x108x128x128) (k0_off3443 v1 k0_t51 v228 v257 k0_t65) S1x1x1x16x128.size hinb).PackedRows (EltTy.packing .bf16)) ∧
  (∀ k0_t65 : Fin (k0_t65_loop v228 v257).trips, ∀ a, (k0_off3444 v1 k0_t51 v228 v257 k0_t65) a + S1x1x1x16x128.size a ≤ S2x2x108x128x128.size a) ∧
  (∀ k0_t65 : Fin (k0_t65_loop v228 v257).trips, ∀ (hinb : ∀ a, (k0_off3444 v1 k0_t51 v228 v257 k0_t65) a + S1x1x1x16x128.size a ≤ S2x2x108x128x128.size a), (Rect.unit (s := S2x2x108x128x128) (k0_off3444 v1 k0_t51 v228 v257 k0_t65) S1x1x1x16x128.size hinb).PackedRows (EltTy.packing .bf16)) ∧
  (∀ k0_t65 : Fin (k0_t65_loop v228 v257).trips, ∀ a, (k0_off3445 v1 k0_t51 v228 v257 k0_t65) a + S1x1x1x16x128.size a ≤ S2x2x108x128x128.size a) ∧
  (∀ k0_t65 : Fin (k0_t65_loop v228 v257).trips, ∀ (hinb : ∀ a, (k0_off3445 v1 k0_t51 v228 v257 k0_t65) a + S1x1x1x16x128.size a ≤ S2x2x108x128x128.size a), (Rect.unit (s := S2x2x108x128x128) (k0_off3445 v1 k0_t51 v228 v257 k0_t65) S1x1x1x16x128.size hinb).PackedRows (EltTy.packing .bf16)) ∧
  (∀ k0_t65 : Fin (k0_t65_loop v228 v257).trips, ∀ a, (k0_off3446 v1 k0_t51 v228 v257 k0_t65) a + S1x1x1x16x128.size a ≤ S2x2x108x128x128.size a) ∧
  (∀ k0_t65 : Fin (k0_t65_loop v228 v257).trips, ∀ (hinb : ∀ a, (k0_off3446 v1 k0_t51 v228 v257 k0_t65) a + S1x1x1x16x128.size a ≤ S2x2x108x128x128.size a), (Rect.unit (s := S2x2x108x128x128) (k0_off3446 v1 k0_t51 v228 v257 k0_t65) S1x1x1x16x128.size hinb).PackedRows (EltTy.packing .bf16)) ∧
  (∀ k0_t65 : Fin (k0_t65_loop v228 v257).trips, ∀ a, (k0_off3447 v1 k0_t51 v228 v257 k0_t65) a + S1x1x1x16x128.size a ≤ S2x2x108x128x128.size a) ∧
  (∀ k0_t65 : Fin (k0_t65_loop v228 v257).trips, ∀ (hinb : ∀ a, (k0_off3447 v1 k0_t51 v228 v257 k0_t65) a + S1x1x1x16x128.size a ≤ S2x2x108x128x128.size a), (Rect.unit (s := S2x2x108x128x128) (k0_off3447 v1 k0_t51 v228 v257 k0_t65) S1x1x1x16x128.size hinb).PackedRows (EltTy.packing .bf16)) ∧
  (∀ k0_t65 : Fin (k0_t65_loop v228 v257).trips, ∀ a, (k0_off3448 v1 k0_t51 v228 v257 k0_t65) a + S1x1x1x16x128.size a ≤ S2x2x108x128x128.size a) ∧
  (∀ k0_t65 : Fin (k0_t65_loop v228 v257).trips, ∀ (hinb : ∀ a, (k0_off3448 v1 k0_t51 v228 v257 k0_t65) a + S1x1x1x16x128.size a ≤ S2x2x108x128x128.size a), (Rect.unit (s := S2x2x108x128x128) (k0_off3448 v1 k0_t51 v228 v257 k0_t65) S1x1x1x16x128.size hinb).PackedRows (EltTy.packing .bf16)) ∧
  (∀ k0_t65 : Fin (k0_t65_loop v228 v257).trips, ∀ a, (k0_off3449 v1 k0_t51 v228 v257 k0_t65) a + S1x1x1x16x128.size a ≤ S2x2x108x128x128.size a) ∧
  (∀ k0_t65 : Fin (k0_t65_loop v228 v257).trips, ∀ (hinb : ∀ a, (k0_off3449 v1 k0_t51 v228 v257 k0_t65) a + S1x1x1x16x128.size a ≤ S2x2x108x128x128.size a), (Rect.unit (s := S2x2x108x128x128) (k0_off3449 v1 k0_t51 v228 v257 k0_t65) S1x1x1x16x128.size hinb).PackedRows (EltTy.packing .bf16)) ∧
  (∀ k0_t65 : Fin (k0_t65_loop v228 v257).trips, ∀ a, (k0_off3450 v1 k0_t51 v228 v257 k0_t65) a + S1x1x1x16x128.size a ≤ S2x2x108x128x128.size a) ∧
  (∀ k0_t65 : Fin (k0_t65_loop v228 v257).trips, ∀ (hinb : ∀ a, (k0_off3450 v1 k0_t51 v228 v257 k0_t65) a + S1x1x1x16x128.size a ≤ S2x2x108x128x128.size a), (Rect.unit (s := S2x2x108x128x128) (k0_off3450 v1 k0_t51 v228 v257 k0_t65) S1x1x1x16x128.size hinb).PackedRows (EltTy.packing .bf16)) ∧
  (∀ k0_t65 : Fin (k0_t65_loop v228 v257).trips, ∀ a, (k0_off3451 v1 k0_t51 v228 v257 k0_t65) a + S1x1x1x16x128.size a ≤ S2x2x108x128x128.size a) ∧
  (∀ k0_t65 : Fin (k0_t65_loop v228 v257).trips, ∀ (hinb : ∀ a, (k0_off3451 v1 k0_t51 v228 v257 k0_t65) a + S1x1x1x16x128.size a ≤ S2x2x108x128x128.size a), (Rect.unit (s := S2x2x108x128x128) (k0_off3451 v1 k0_t51 v228 v257 k0_t65) S1x1x1x16x128.size hinb).PackedRows (EltTy.packing .bf16)) ∧
  (∀ k0_t65 : Fin (k0_t65_loop v228 v257).trips, ∀ a, (k0_off3452 v1 k0_t51 v228 v257 k0_t65) a + S1x1x1x16x128.size a ≤ S2x2x108x128x128.size a) ∧
  (∀ k0_t65 : Fin (k0_t65_loop v228 v257).trips, ∀ (hinb : ∀ a, (k0_off3452 v1 k0_t51 v228 v257 k0_t65) a + S1x1x1x16x128.size a ≤ S2x2x108x128x128.size a), (Rect.unit (s := S2x2x108x128x128) (k0_off3452 v1 k0_t51 v228 v257 k0_t65) S1x1x1x16x128.size hinb).PackedRows (EltTy.packing .bf16)) ∧
  (∀ k0_t65 : Fin (k0_t65_loop v228 v257).trips, ∀ a, (k0_off3453 v1 k0_t51 v228 v257 k0_t65) a + S1x1x1x16x128.size a ≤ S2x2x108x128x128.size a) ∧
  (∀ k0_t65 : Fin (k0_t65_loop v228 v257).trips, ∀ (hinb : ∀ a, (k0_off3453 v1 k0_t51 v228 v257 k0_t65) a + S1x1x1x16x128.size a ≤ S2x2x108x128x128.size a), (Rect.unit (s := S2x2x108x128x128) (k0_off3453 v1 k0_t51 v228 v257 k0_t65) S1x1x1x16x128.size hinb).PackedRows (EltTy.packing .bf16))
def k0_chk35_59 (v1 : BitVec 32) (k0_t51 : Fin (k0_t51_loop v1).trips) (v228 : BitVec 32) (v257 : BitVec 32) : Prop :=
  (∀ k0_t65 : Fin (k0_t65_loop v228 v257).trips, ∀ a, (k0_off3454 v1 k0_t51 v228 v257 k0_t65) a + S1x1x1x16x128.size a ≤ S2x2x108x128x128.size a) ∧
  (∀ k0_t65 : Fin (k0_t65_loop v228 v257).trips, ∀ (hinb : ∀ a, (k0_off3454 v1 k0_t51 v228 v257 k0_t65) a + S1x1x1x16x128.size a ≤ S2x2x108x128x128.size a), (Rect.unit (s := S2x2x108x128x128) (k0_off3454 v1 k0_t51 v228 v257 k0_t65) S1x1x1x16x128.size hinb).PackedRows (EltTy.packing .bf16)) ∧
  (∀ k0_t65 : Fin (k0_t65_loop v228 v257).trips, ∀ a, (k0_off3455 v1 k0_t51 v228 v257 k0_t65) a + S1x1x1x16x128.size a ≤ S2x2x108x128x128.size a) ∧
  (∀ k0_t65 : Fin (k0_t65_loop v228 v257).trips, ∀ (hinb : ∀ a, (k0_off3455 v1 k0_t51 v228 v257 k0_t65) a + S1x1x1x16x128.size a ≤ S2x2x108x128x128.size a), (Rect.unit (s := S2x2x108x128x128) (k0_off3455 v1 k0_t51 v228 v257 k0_t65) S1x1x1x16x128.size hinb).PackedRows (EltTy.packing .bf16)) ∧
  (∀ k0_t65 : Fin (k0_t65_loop v228 v257).trips, ∀ a, (k0_off3456 v1 k0_t51 v228 v257 k0_t65) a + S1x1x1x16x128.size a ≤ S2x2x108x128x128.size a) ∧
  (∀ k0_t65 : Fin (k0_t65_loop v228 v257).trips, ∀ (hinb : ∀ a, (k0_off3456 v1 k0_t51 v228 v257 k0_t65) a + S1x1x1x16x128.size a ≤ S2x2x108x128x128.size a), (Rect.unit (s := S2x2x108x128x128) (k0_off3456 v1 k0_t51 v228 v257 k0_t65) S1x1x1x16x128.size hinb).PackedRows (EltTy.packing .bf16)) ∧
  (∀ k0_t65 : Fin (k0_t65_loop v228 v257).trips, ∀ a, (k0_off3457 v1 k0_t51 v228 v257 k0_t65) a + S1x1x1x16x128.size a ≤ S2x2x108x128x128.size a) ∧
  (∀ k0_t65 : Fin (k0_t65_loop v228 v257).trips, ∀ (hinb : ∀ a, (k0_off3457 v1 k0_t51 v228 v257 k0_t65) a + S1x1x1x16x128.size a ≤ S2x2x108x128x128.size a), (Rect.unit (s := S2x2x108x128x128) (k0_off3457 v1 k0_t51 v228 v257 k0_t65) S1x1x1x16x128.size hinb).PackedRows (EltTy.packing .bf16)) ∧
  (∀ k0_t65 : Fin (k0_t65_loop v228 v257).trips, ∀ a, (k0_off3458 v1 k0_t51 v228 v257 k0_t65) a + S1x1x1x16x128.size a ≤ S2x2x108x128x128.size a) ∧
  (∀ k0_t65 : Fin (k0_t65_loop v228 v257).trips, ∀ (hinb : ∀ a, (k0_off3458 v1 k0_t51 v228 v257 k0_t65) a + S1x1x1x16x128.size a ≤ S2x2x108x128x128.size a), (Rect.unit (s := S2x2x108x128x128) (k0_off3458 v1 k0_t51 v228 v257 k0_t65) S1x1x1x16x128.size hinb).PackedRows (EltTy.packing .bf16)) ∧
  (∀ k0_t65 : Fin (k0_t65_loop v228 v257).trips, ∀ a, (k0_off3459 v1 k0_t51 v228 v257 k0_t65) a + S1x1x1x16x128.size a ≤ S2x2x108x128x128.size a) ∧
  (∀ k0_t65 : Fin (k0_t65_loop v228 v257).trips, ∀ (hinb : ∀ a, (k0_off3459 v1 k0_t51 v228 v257 k0_t65) a + S1x1x1x16x128.size a ≤ S2x2x108x128x128.size a), (Rect.unit (s := S2x2x108x128x128) (k0_off3459 v1 k0_t51 v228 v257 k0_t65) S1x1x1x16x128.size hinb).PackedRows (EltTy.packing .bf16)) ∧
  (∀ k0_t65 : Fin (k0_t65_loop v228 v257).trips, ∀ a, (k0_off3460 v1 k0_t51 v228 v257 k0_t65) a + S1x1x1x16x128.size a ≤ S2x2x108x128x128.size a) ∧
  (∀ k0_t65 : Fin (k0_t65_loop v228 v257).trips, ∀ (hinb : ∀ a, (k0_off3460 v1 k0_t51 v228 v257 k0_t65) a + S1x1x1x16x128.size a ≤ S2x2x108x128x128.size a), (Rect.unit (s := S2x2x108x128x128) (k0_off3460 v1 k0_t51 v228 v257 k0_t65) S1x1x1x16x128.size hinb).PackedRows (EltTy.packing .bf16)) ∧
  (∀ k0_t65 : Fin (k0_t65_loop v228 v257).trips, ∀ a, (k0_off3461 v1 k0_t51 v228 v257 k0_t65) a + S1x1x1x16x128.size a ≤ S2x2x108x128x128.size a) ∧
  (∀ k0_t65 : Fin (k0_t65_loop v228 v257).trips, ∀ (hinb : ∀ a, (k0_off3461 v1 k0_t51 v228 v257 k0_t65) a + S1x1x1x16x128.size a ≤ S2x2x108x128x128.size a), (Rect.unit (s := S2x2x108x128x128) (k0_off3461 v1 k0_t51 v228 v257 k0_t65) S1x1x1x16x128.size hinb).PackedRows (EltTy.packing .bf16)) ∧
  (∀ k0_t65 : Fin (k0_t65_loop v228 v257).trips, ∀ a, (k0_off3462 v1 k0_t51 v228 v257 k0_t65) a + S1x1x1x16x128.size a ≤ S2x2x108x128x128.size a) ∧
  (∀ k0_t65 : Fin (k0_t65_loop v228 v257).trips, ∀ (hinb : ∀ a, (k0_off3462 v1 k0_t51 v228 v257 k0_t65) a + S1x1x1x16x128.size a ≤ S2x2x108x128x128.size a), (Rect.unit (s := S2x2x108x128x128) (k0_off3462 v1 k0_t51 v228 v257 k0_t65) S1x1x1x16x128.size hinb).PackedRows (EltTy.packing .bf16)) ∧
  (∀ k0_t65 : Fin (k0_t65_loop v228 v257).trips, ∀ a, (k0_off3463 v1 k0_t51 v228 v257 k0_t65) a + S1x1x1x16x128.size a ≤ S2x2x108x128x128.size a) ∧
  (∀ k0_t65 : Fin (k0_t65_loop v228 v257).trips, ∀ (hinb : ∀ a, (k0_off3463 v1 k0_t51 v228 v257 k0_t65) a + S1x1x1x16x128.size a ≤ S2x2x108x128x128.size a), (Rect.unit (s := S2x2x108x128x128) (k0_off3463 v1 k0_t51 v228 v257 k0_t65) S1x1x1x16x128.size hinb).PackedRows (EltTy.packing .bf16)) ∧
  (∀ k0_t65 : Fin (k0_t65_loop v228 v257).trips, ∀ a, (k0_off3464 v1 k0_t51 v228 v257 k0_t65) a + S1x1x1x16x128.size a ≤ S2x2x108x128x128.size a) ∧
  (∀ k0_t65 : Fin (k0_t65_loop v228 v257).trips, ∀ (hinb : ∀ a, (k0_off3464 v1 k0_t51 v228 v257 k0_t65) a + S1x1x1x16x128.size a ≤ S2x2x108x128x128.size a), (Rect.unit (s := S2x2x108x128x128) (k0_off3464 v1 k0_t51 v228 v257 k0_t65) S1x1x1x16x128.size hinb).PackedRows (EltTy.packing .bf16)) ∧
  (∀ k0_t65 : Fin (k0_t65_loop v228 v257).trips, ∀ a, (k0_off3465 v1 k0_t51 v228 v257 k0_t65) a + S1x1x1x16x128.size a ≤ S2x2x108x128x128.size a) ∧
  (∀ k0_t65 : Fin (k0_t65_loop v228 v257).trips, ∀ (hinb : ∀ a, (k0_off3465 v1 k0_t51 v228 v257 k0_t65) a + S1x1x1x16x128.size a ≤ S2x2x108x128x128.size a), (Rect.unit (s := S2x2x108x128x128) (k0_off3465 v1 k0_t51 v228 v257 k0_t65) S1x1x1x16x128.size hinb).PackedRows (EltTy.packing .bf16)) ∧
  (∀ k0_t65 : Fin (k0_t65_loop v228 v257).trips, ∀ a, (k0_off3466 v1 k0_t51 v228 v257 k0_t65) a + S1x1x1x16x128.size a ≤ S2x2x108x128x128.size a) ∧
  (∀ k0_t65 : Fin (k0_t65_loop v228 v257).trips, ∀ (hinb : ∀ a, (k0_off3466 v1 k0_t51 v228 v257 k0_t65) a + S1x1x1x16x128.size a ≤ S2x2x108x128x128.size a), (Rect.unit (s := S2x2x108x128x128) (k0_off3466 v1 k0_t51 v228 v257 k0_t65) S1x1x1x16x128.size hinb).PackedRows (EltTy.packing .bf16)) ∧
  (∀ k0_t65 : Fin (k0_t65_loop v228 v257).trips, ∀ a, (k0_off3467 v1 k0_t51 v228 v257 k0_t65) a + S1x1x1x16x128.size a ≤ S2x2x108x128x128.size a) ∧
  (∀ k0_t65 : Fin (k0_t65_loop v228 v257).trips, ∀ (hinb : ∀ a, (k0_off3467 v1 k0_t51 v228 v257 k0_t65) a + S1x1x1x16x128.size a ≤ S2x2x108x128x128.size a), (Rect.unit (s := S2x2x108x128x128) (k0_off3467 v1 k0_t51 v228 v257 k0_t65) S1x1x1x16x128.size hinb).PackedRows (EltTy.packing .bf16)) ∧
  (∀ k0_t65 : Fin (k0_t65_loop v228 v257).trips, ∀ a, (k0_off3468 v1 k0_t51 v228 v257 k0_t65) a + S1x1x1x16x128.size a ≤ S2x2x108x128x128.size a) ∧
  (∀ k0_t65 : Fin (k0_t65_loop v228 v257).trips, ∀ (hinb : ∀ a, (k0_off3468 v1 k0_t51 v228 v257 k0_t65) a + S1x1x1x16x128.size a ≤ S2x2x108x128x128.size a), (Rect.unit (s := S2x2x108x128x128) (k0_off3468 v1 k0_t51 v228 v257 k0_t65) S1x1x1x16x128.size hinb).PackedRows (EltTy.packing .bf16)) ∧
  (∀ k0_t65 : Fin (k0_t65_loop v228 v257).trips, ∀ a, (k0_off3469 v1 k0_t51 v228 v257 k0_t65) a + S1x1x1x16x128.size a ≤ S2x2x108x128x128.size a) ∧
  (∀ k0_t65 : Fin (k0_t65_loop v228 v257).trips, ∀ (hinb : ∀ a, (k0_off3469 v1 k0_t51 v228 v257 k0_t65) a + S1x1x1x16x128.size a ≤ S2x2x108x128x128.size a), (Rect.unit (s := S2x2x108x128x128) (k0_off3469 v1 k0_t51 v228 v257 k0_t65) S1x1x1x16x128.size hinb).PackedRows (EltTy.packing .bf16))
def k0_chk35_60 (v1 : BitVec 32) (k0_t51 : Fin (k0_t51_loop v1).trips) (v228 : BitVec 32) (v257 : BitVec 32) : Prop :=
  (∀ k0_t65 : Fin (k0_t65_loop v228 v257).trips, ∀ a, (k0_off3470 v1 k0_t51 v228 v257 k0_t65) a + S1x1x1x16x128.size a ≤ S2x2x108x128x128.size a) ∧
  (∀ k0_t65 : Fin (k0_t65_loop v228 v257).trips, ∀ (hinb : ∀ a, (k0_off3470 v1 k0_t51 v228 v257 k0_t65) a + S1x1x1x16x128.size a ≤ S2x2x108x128x128.size a), (Rect.unit (s := S2x2x108x128x128) (k0_off3470 v1 k0_t51 v228 v257 k0_t65) S1x1x1x16x128.size hinb).PackedRows (EltTy.packing .bf16)) ∧
  (∀ k0_t65 : Fin (k0_t65_loop v228 v257).trips, ∀ a, (k0_off3471 v1 k0_t51 v228 v257 k0_t65) a + S1x1x1x16x128.size a ≤ S2x2x108x128x128.size a) ∧
  (∀ k0_t65 : Fin (k0_t65_loop v228 v257).trips, ∀ (hinb : ∀ a, (k0_off3471 v1 k0_t51 v228 v257 k0_t65) a + S1x1x1x16x128.size a ≤ S2x2x108x128x128.size a), (Rect.unit (s := S2x2x108x128x128) (k0_off3471 v1 k0_t51 v228 v257 k0_t65) S1x1x1x16x128.size hinb).PackedRows (EltTy.packing .bf16)) ∧
  (∀ k0_t65 : Fin (k0_t65_loop v228 v257).trips, ∀ a, (k0_off3472 v1 k0_t51 v228 v257 k0_t65) a + S1x1x1x16x128.size a ≤ S2x2x108x128x128.size a) ∧
  (∀ k0_t65 : Fin (k0_t65_loop v228 v257).trips, ∀ (hinb : ∀ a, (k0_off3472 v1 k0_t51 v228 v257 k0_t65) a + S1x1x1x16x128.size a ≤ S2x2x108x128x128.size a), (Rect.unit (s := S2x2x108x128x128) (k0_off3472 v1 k0_t51 v228 v257 k0_t65) S1x1x1x16x128.size hinb).PackedRows (EltTy.packing .bf16)) ∧
  (∀ k0_t65 : Fin (k0_t65_loop v228 v257).trips, ∀ a, (k0_off3473 v1 k0_t51 v228 v257 k0_t65) a + S1x1x1x16x128.size a ≤ S2x2x108x128x128.size a) ∧
  (∀ k0_t65 : Fin (k0_t65_loop v228 v257).trips, ∀ (hinb : ∀ a, (k0_off3473 v1 k0_t51 v228 v257 k0_t65) a + S1x1x1x16x128.size a ≤ S2x2x108x128x128.size a), (Rect.unit (s := S2x2x108x128x128) (k0_off3473 v1 k0_t51 v228 v257 k0_t65) S1x1x1x16x128.size hinb).PackedRows (EltTy.packing .bf16)) ∧
  (∀ k0_t65 : Fin (k0_t65_loop v228 v257).trips, ∀ a, (k0_off3474 v1 k0_t51 v228 v257 k0_t65) a + S1x1x1x16x128.size a ≤ S2x2x108x128x128.size a) ∧
  (∀ k0_t65 : Fin (k0_t65_loop v228 v257).trips, ∀ (hinb : ∀ a, (k0_off3474 v1 k0_t51 v228 v257 k0_t65) a + S1x1x1x16x128.size a ≤ S2x2x108x128x128.size a), (Rect.unit (s := S2x2x108x128x128) (k0_off3474 v1 k0_t51 v228 v257 k0_t65) S1x1x1x16x128.size hinb).PackedRows (EltTy.packing .bf16)) ∧
  (∀ k0_t65 : Fin (k0_t65_loop v228 v257).trips, ∀ a, (k0_off3475 v1 k0_t51 v228 v257 k0_t65) a + S1x1x1x16x128.size a ≤ S2x2x108x128x128.size a) ∧
  (∀ k0_t65 : Fin (k0_t65_loop v228 v257).trips, ∀ (hinb : ∀ a, (k0_off3475 v1 k0_t51 v228 v257 k0_t65) a + S1x1x1x16x128.size a ≤ S2x2x108x128x128.size a), (Rect.unit (s := S2x2x108x128x128) (k0_off3475 v1 k0_t51 v228 v257 k0_t65) S1x1x1x16x128.size hinb).PackedRows (EltTy.packing .bf16)) ∧
  (∀ k0_t65 : Fin (k0_t65_loop v228 v257).trips, ∀ a, (k0_off3476 v1 k0_t51 v228 v257 k0_t65) a + S1x1x1x16x128.size a ≤ S2x2x108x128x128.size a) ∧
  (∀ k0_t65 : Fin (k0_t65_loop v228 v257).trips, ∀ (hinb : ∀ a, (k0_off3476 v1 k0_t51 v228 v257 k0_t65) a + S1x1x1x16x128.size a ≤ S2x2x108x128x128.size a), (Rect.unit (s := S2x2x108x128x128) (k0_off3476 v1 k0_t51 v228 v257 k0_t65) S1x1x1x16x128.size hinb).PackedRows (EltTy.packing .bf16)) ∧
  (∀ k0_t65 : Fin (k0_t65_loop v228 v257).trips, ∀ a, (k0_off3477 v1 k0_t51 v228 v257 k0_t65) a + S1x1x1x16x128.size a ≤ S2x2x108x128x128.size a) ∧
  (∀ k0_t65 : Fin (k0_t65_loop v228 v257).trips, ∀ (hinb : ∀ a, (k0_off3477 v1 k0_t51 v228 v257 k0_t65) a + S1x1x1x16x128.size a ≤ S2x2x108x128x128.size a), (Rect.unit (s := S2x2x108x128x128) (k0_off3477 v1 k0_t51 v228 v257 k0_t65) S1x1x1x16x128.size hinb).PackedRows (EltTy.packing .bf16)) ∧
  (∀ k0_t65 : Fin (k0_t65_loop v228 v257).trips, ∀ a, (k0_off3478 v1 k0_t51 v228 v257 k0_t65) a + S1x1x1x16x128.size a ≤ S2x2x108x128x128.size a) ∧
  (∀ k0_t65 : Fin (k0_t65_loop v228 v257).trips, ∀ (hinb : ∀ a, (k0_off3478 v1 k0_t51 v228 v257 k0_t65) a + S1x1x1x16x128.size a ≤ S2x2x108x128x128.size a), (Rect.unit (s := S2x2x108x128x128) (k0_off3478 v1 k0_t51 v228 v257 k0_t65) S1x1x1x16x128.size hinb).PackedRows (EltTy.packing .bf16)) ∧
  (∀ k0_t65 : Fin (k0_t65_loop v228 v257).trips, ∀ a, (k0_off3479 v1 k0_t51 v228 v257 k0_t65) a + S1x1x1x16x128.size a ≤ S2x2x108x128x128.size a) ∧
  (∀ k0_t65 : Fin (k0_t65_loop v228 v257).trips, ∀ (hinb : ∀ a, (k0_off3479 v1 k0_t51 v228 v257 k0_t65) a + S1x1x1x16x128.size a ≤ S2x2x108x128x128.size a), (Rect.unit (s := S2x2x108x128x128) (k0_off3479 v1 k0_t51 v228 v257 k0_t65) S1x1x1x16x128.size hinb).PackedRows (EltTy.packing .bf16)) ∧
  (∀ k0_t65 : Fin (k0_t65_loop v228 v257).trips, ∀ a, (k0_off3480 v1 k0_t51 v228 v257 k0_t65) a + S1x1x1x16x128.size a ≤ S2x2x108x128x128.size a) ∧
  (∀ k0_t65 : Fin (k0_t65_loop v228 v257).trips, ∀ (hinb : ∀ a, (k0_off3480 v1 k0_t51 v228 v257 k0_t65) a + S1x1x1x16x128.size a ≤ S2x2x108x128x128.size a), (Rect.unit (s := S2x2x108x128x128) (k0_off3480 v1 k0_t51 v228 v257 k0_t65) S1x1x1x16x128.size hinb).PackedRows (EltTy.packing .bf16)) ∧
  (∀ k0_t65 : Fin (k0_t65_loop v228 v257).trips, ∀ a, (k0_off3481 v1 k0_t51 v228 v257 k0_t65) a + S1x1x1x16x128.size a ≤ S2x2x108x128x128.size a) ∧
  (∀ k0_t65 : Fin (k0_t65_loop v228 v257).trips, ∀ (hinb : ∀ a, (k0_off3481 v1 k0_t51 v228 v257 k0_t65) a + S1x1x1x16x128.size a ≤ S2x2x108x128x128.size a), (Rect.unit (s := S2x2x108x128x128) (k0_off3481 v1 k0_t51 v228 v257 k0_t65) S1x1x1x16x128.size hinb).PackedRows (EltTy.packing .bf16)) ∧
  (∀ k0_t65 : Fin (k0_t65_loop v228 v257).trips, ∀ a, (k0_off3482 v1 k0_t51 v228 v257 k0_t65) a + S1x1x1x16x128.size a ≤ S2x2x108x128x128.size a) ∧
  (∀ k0_t65 : Fin (k0_t65_loop v228 v257).trips, ∀ (hinb : ∀ a, (k0_off3482 v1 k0_t51 v228 v257 k0_t65) a + S1x1x1x16x128.size a ≤ S2x2x108x128x128.size a), (Rect.unit (s := S2x2x108x128x128) (k0_off3482 v1 k0_t51 v228 v257 k0_t65) S1x1x1x16x128.size hinb).PackedRows (EltTy.packing .bf16)) ∧
  (∀ k0_t65 : Fin (k0_t65_loop v228 v257).trips, ∀ a, (k0_off3483 v1 k0_t51 v228 v257 k0_t65) a + S1x1x1x16x128.size a ≤ S2x2x108x128x128.size a) ∧
  (∀ k0_t65 : Fin (k0_t65_loop v228 v257).trips, ∀ (hinb : ∀ a, (k0_off3483 v1 k0_t51 v228 v257 k0_t65) a + S1x1x1x16x128.size a ≤ S2x2x108x128x128.size a), (Rect.unit (s := S2x2x108x128x128) (k0_off3483 v1 k0_t51 v228 v257 k0_t65) S1x1x1x16x128.size hinb).PackedRows (EltTy.packing .bf16)) ∧
  (∀ k0_t65 : Fin (k0_t65_loop v228 v257).trips, ∀ a, (k0_off3484 v1 k0_t51 v228 v257 k0_t65) a + S1x1x1x16x128.size a ≤ S2x2x108x128x128.size a) ∧
  (∀ k0_t65 : Fin (k0_t65_loop v228 v257).trips, ∀ (hinb : ∀ a, (k0_off3484 v1 k0_t51 v228 v257 k0_t65) a + S1x1x1x16x128.size a ≤ S2x2x108x128x128.size a), (Rect.unit (s := S2x2x108x128x128) (k0_off3484 v1 k0_t51 v228 v257 k0_t65) S1x1x1x16x128.size hinb).PackedRows (EltTy.packing .bf16)) ∧
  (∀ k0_t65 : Fin (k0_t65_loop v228 v257).trips, ∀ a, (k0_off3485 v1 k0_t51 v228 v257 k0_t65) a + S1x1x1x16x128.size a ≤ S2x2x108x128x128.size a) ∧
  (∀ k0_t65 : Fin (k0_t65_loop v228 v257).trips, ∀ (hinb : ∀ a, (k0_off3485 v1 k0_t51 v228 v257 k0_t65) a + S1x1x1x16x128.size a ≤ S2x2x108x128x128.size a), (Rect.unit (s := S2x2x108x128x128) (k0_off3485 v1 k0_t51 v228 v257 k0_t65) S1x1x1x16x128.size hinb).PackedRows (EltTy.packing .bf16))
def k0_chk35_61 (v1 : BitVec 32) (k0_t51 : Fin (k0_t51_loop v1).trips) (v228 : BitVec 32) (v257 : BitVec 32) : Prop :=
  (∀ k0_t65 : Fin (k0_t65_loop v228 v257).trips, ∀ a, (k0_off3486 v1 k0_t51 v228 v257 k0_t65) a + S1x1x1x16x128.size a ≤ S2x2x108x128x128.size a) ∧
  (∀ k0_t65 : Fin (k0_t65_loop v228 v257).trips, ∀ (hinb : ∀ a, (k0_off3486 v1 k0_t51 v228 v257 k0_t65) a + S1x1x1x16x128.size a ≤ S2x2x108x128x128.size a), (Rect.unit (s := S2x2x108x128x128) (k0_off3486 v1 k0_t51 v228 v257 k0_t65) S1x1x1x16x128.size hinb).PackedRows (EltTy.packing .bf16)) ∧
  (∀ k0_t65 : Fin (k0_t65_loop v228 v257).trips, ∀ a, (k0_off3487 v1 k0_t51 v228 v257 k0_t65) a + S1x1x1x16x128.size a ≤ S2x2x108x128x128.size a) ∧
  (∀ k0_t65 : Fin (k0_t65_loop v228 v257).trips, ∀ (hinb : ∀ a, (k0_off3487 v1 k0_t51 v228 v257 k0_t65) a + S1x1x1x16x128.size a ≤ S2x2x108x128x128.size a), (Rect.unit (s := S2x2x108x128x128) (k0_off3487 v1 k0_t51 v228 v257 k0_t65) S1x1x1x16x128.size hinb).PackedRows (EltTy.packing .bf16)) ∧
  (∀ k0_t65 : Fin (k0_t65_loop v228 v257).trips, ∀ a, (k0_off3488 v1 k0_t51 v228 v257 k0_t65) a + S1x1x1x16x128.size a ≤ S2x2x108x128x128.size a) ∧
  (∀ k0_t65 : Fin (k0_t65_loop v228 v257).trips, ∀ (hinb : ∀ a, (k0_off3488 v1 k0_t51 v228 v257 k0_t65) a + S1x1x1x16x128.size a ≤ S2x2x108x128x128.size a), (Rect.unit (s := S2x2x108x128x128) (k0_off3488 v1 k0_t51 v228 v257 k0_t65) S1x1x1x16x128.size hinb).PackedRows (EltTy.packing .bf16)) ∧
  (∀ k0_t65 : Fin (k0_t65_loop v228 v257).trips, ∀ a, (k0_off3489 v1 k0_t51 v228 v257 k0_t65) a + S1x1x1x16x128.size a ≤ S2x2x108x128x128.size a) ∧
  (∀ k0_t65 : Fin (k0_t65_loop v228 v257).trips, ∀ (hinb : ∀ a, (k0_off3489 v1 k0_t51 v228 v257 k0_t65) a + S1x1x1x16x128.size a ≤ S2x2x108x128x128.size a), (Rect.unit (s := S2x2x108x128x128) (k0_off3489 v1 k0_t51 v228 v257 k0_t65) S1x1x1x16x128.size hinb).PackedRows (EltTy.packing .bf16)) ∧
  (∀ k0_t65 : Fin (k0_t65_loop v228 v257).trips, ∀ a, (k0_off3490 v1 k0_t51 v228 v257 k0_t65) a + S1x1x1x16x128.size a ≤ S2x2x108x128x128.size a) ∧
  (∀ k0_t65 : Fin (k0_t65_loop v228 v257).trips, ∀ (hinb : ∀ a, (k0_off3490 v1 k0_t51 v228 v257 k0_t65) a + S1x1x1x16x128.size a ≤ S2x2x108x128x128.size a), (Rect.unit (s := S2x2x108x128x128) (k0_off3490 v1 k0_t51 v228 v257 k0_t65) S1x1x1x16x128.size hinb).PackedRows (EltTy.packing .bf16)) ∧
  (∀ k0_t65 : Fin (k0_t65_loop v228 v257).trips, ∀ a, (k0_off3491 v1 k0_t51 v228 v257 k0_t65) a + S1x1x1x16x128.size a ≤ S2x2x108x128x128.size a) ∧
  (∀ k0_t65 : Fin (k0_t65_loop v228 v257).trips, ∀ (hinb : ∀ a, (k0_off3491 v1 k0_t51 v228 v257 k0_t65) a + S1x1x1x16x128.size a ≤ S2x2x108x128x128.size a), (Rect.unit (s := S2x2x108x128x128) (k0_off3491 v1 k0_t51 v228 v257 k0_t65) S1x1x1x16x128.size hinb).PackedRows (EltTy.packing .bf16)) ∧
  (∀ k0_t65 : Fin (k0_t65_loop v228 v257).trips, ∀ a, (k0_off3492 v1 k0_t51 v228 v257 k0_t65) a + S1x1x1x16x128.size a ≤ S2x2x108x128x128.size a) ∧
  (∀ k0_t65 : Fin (k0_t65_loop v228 v257).trips, ∀ (hinb : ∀ a, (k0_off3492 v1 k0_t51 v228 v257 k0_t65) a + S1x1x1x16x128.size a ≤ S2x2x108x128x128.size a), (Rect.unit (s := S2x2x108x128x128) (k0_off3492 v1 k0_t51 v228 v257 k0_t65) S1x1x1x16x128.size hinb).PackedRows (EltTy.packing .bf16)) ∧
  (∀ k0_t65 : Fin (k0_t65_loop v228 v257).trips, ∀ a, (k0_off3493 v1 k0_t51 v228 v257 k0_t65) a + S1x1x1x16x128.size a ≤ S2x2x108x128x128.size a) ∧
  (∀ k0_t65 : Fin (k0_t65_loop v228 v257).trips, ∀ (hinb : ∀ a, (k0_off3493 v1 k0_t51 v228 v257 k0_t65) a + S1x1x1x16x128.size a ≤ S2x2x108x128x128.size a), (Rect.unit (s := S2x2x108x128x128) (k0_off3493 v1 k0_t51 v228 v257 k0_t65) S1x1x1x16x128.size hinb).PackedRows (EltTy.packing .bf16)) ∧
  (∀ k0_t65 : Fin (k0_t65_loop v228 v257).trips, ∀ a, (k0_off3494 v1 k0_t51 v228 v257 k0_t65) a + S1x1x1x16x128.size a ≤ S2x2x108x128x128.size a) ∧
  (∀ k0_t65 : Fin (k0_t65_loop v228 v257).trips, ∀ (hinb : ∀ a, (k0_off3494 v1 k0_t51 v228 v257 k0_t65) a + S1x1x1x16x128.size a ≤ S2x2x108x128x128.size a), (Rect.unit (s := S2x2x108x128x128) (k0_off3494 v1 k0_t51 v228 v257 k0_t65) S1x1x1x16x128.size hinb).PackedRows (EltTy.packing .bf16)) ∧
  (∀ k0_t65 : Fin (k0_t65_loop v228 v257).trips, ∀ a, (k0_off3495 v1 k0_t51 v228 v257 k0_t65) a + S1x1x1x16x128.size a ≤ S2x2x108x128x128.size a) ∧
  (∀ k0_t65 : Fin (k0_t65_loop v228 v257).trips, ∀ (hinb : ∀ a, (k0_off3495 v1 k0_t51 v228 v257 k0_t65) a + S1x1x1x16x128.size a ≤ S2x2x108x128x128.size a), (Rect.unit (s := S2x2x108x128x128) (k0_off3495 v1 k0_t51 v228 v257 k0_t65) S1x1x1x16x128.size hinb).PackedRows (EltTy.packing .bf16)) ∧
  (∀ k0_t65 : Fin (k0_t65_loop v228 v257).trips, ∀ a, (k0_off3496 v1 k0_t51 v228 v257 k0_t65) a + S1x1x1x16x128.size a ≤ S2x2x108x128x128.size a) ∧
  (∀ k0_t65 : Fin (k0_t65_loop v228 v257).trips, ∀ (hinb : ∀ a, (k0_off3496 v1 k0_t51 v228 v257 k0_t65) a + S1x1x1x16x128.size a ≤ S2x2x108x128x128.size a), (Rect.unit (s := S2x2x108x128x128) (k0_off3496 v1 k0_t51 v228 v257 k0_t65) S1x1x1x16x128.size hinb).PackedRows (EltTy.packing .bf16)) ∧
  (∀ k0_t65 : Fin (k0_t65_loop v228 v257).trips, ∀ a, (k0_off3497 v1 k0_t51 v228 v257 k0_t65) a + S1x1x1x16x128.size a ≤ S2x2x108x128x128.size a) ∧
  (∀ k0_t65 : Fin (k0_t65_loop v228 v257).trips, ∀ (hinb : ∀ a, (k0_off3497 v1 k0_t51 v228 v257 k0_t65) a + S1x1x1x16x128.size a ≤ S2x2x108x128x128.size a), (Rect.unit (s := S2x2x108x128x128) (k0_off3497 v1 k0_t51 v228 v257 k0_t65) S1x1x1x16x128.size hinb).PackedRows (EltTy.packing .bf16)) ∧
  (∀ k0_t65 : Fin (k0_t65_loop v228 v257).trips, ∀ a, (k0_off3498 v1 k0_t51 v228 v257 k0_t65) a + S1x1x1x16x128.size a ≤ S2x2x108x128x128.size a) ∧
  (∀ k0_t65 : Fin (k0_t65_loop v228 v257).trips, ∀ (hinb : ∀ a, (k0_off3498 v1 k0_t51 v228 v257 k0_t65) a + S1x1x1x16x128.size a ≤ S2x2x108x128x128.size a), (Rect.unit (s := S2x2x108x128x128) (k0_off3498 v1 k0_t51 v228 v257 k0_t65) S1x1x1x16x128.size hinb).PackedRows (EltTy.packing .bf16)) ∧
  (∀ k0_t65 : Fin (k0_t65_loop v228 v257).trips, ∀ a, (k0_off3499 v1 k0_t51 v228 v257 k0_t65) a + S1x1x1x16x128.size a ≤ S2x2x108x128x128.size a) ∧
  (∀ k0_t65 : Fin (k0_t65_loop v228 v257).trips, ∀ (hinb : ∀ a, (k0_off3499 v1 k0_t51 v228 v257 k0_t65) a + S1x1x1x16x128.size a ≤ S2x2x108x128x128.size a), (Rect.unit (s := S2x2x108x128x128) (k0_off3499 v1 k0_t51 v228 v257 k0_t65) S1x1x1x16x128.size hinb).PackedRows (EltTy.packing .bf16)) ∧
  (∀ k0_t65 : Fin (k0_t65_loop v228 v257).trips, ∀ a, (k0_off3500 v1 k0_t51 v228 v257 k0_t65) a + S1x1x1x16x128.size a ≤ S2x2x108x128x128.size a) ∧
  (∀ k0_t65 : Fin (k0_t65_loop v228 v257).trips, ∀ (hinb : ∀ a, (k0_off3500 v1 k0_t51 v228 v257 k0_t65) a + S1x1x1x16x128.size a ≤ S2x2x108x128x128.size a), (Rect.unit (s := S2x2x108x128x128) (k0_off3500 v1 k0_t51 v228 v257 k0_t65) S1x1x1x16x128.size hinb).PackedRows (EltTy.packing .bf16)) ∧
  (∀ k0_t65 : Fin (k0_t65_loop v228 v257).trips, ∀ a, (k0_off3501 v1 k0_t51 v228 v257 k0_t65) a + S1x1x1x16x128.size a ≤ S2x2x108x128x128.size a) ∧
  (∀ k0_t65 : Fin (k0_t65_loop v228 v257).trips, ∀ (hinb : ∀ a, (k0_off3501 v1 k0_t51 v228 v257 k0_t65) a + S1x1x1x16x128.size a ≤ S2x2x108x128x128.size a), (Rect.unit (s := S2x2x108x128x128) (k0_off3501 v1 k0_t51 v228 v257 k0_t65) S1x1x1x16x128.size hinb).PackedRows (EltTy.packing .bf16))
def k0_chk35 (v1 : BitVec 32) (k0_t51 : Fin (k0_t51_loop v1).trips) (v228 : BitVec 32) (v257 : BitVec 32) : Prop :=
  k0_chk35_0 v1 k0_t51 v228 v257 ∧
  k0_chk35_1 v1 k0_t51 v228 v257 ∧
  k0_chk35_2 v1 k0_t51 v228 v257 ∧
  k0_chk35_3 v1 k0_t51 v228 v257 ∧
  k0_chk35_4 v1 k0_t51 v228 v257 ∧
  k0_chk35_5 v1 k0_t51 v228 v257 ∧
  k0_chk35_6 v1 k0_t51 v228 v257 ∧
  k0_chk35_7 v1 k0_t51 v228 v257 ∧
  k0_chk35_8 v1 k0_t51 v228 v257 ∧
  k0_chk35_9 v1 k0_t51 v228 v257 ∧
  k0_chk35_10 v1 k0_t51 v228 v257 ∧
  k0_chk35_11 v1 k0_t51 v228 v257 ∧
  k0_chk35_12 v1 k0_t51 v228 v257 ∧
  k0_chk35_13 v1 k0_t51 v228 v257 ∧
  k0_chk35_14 v1 k0_t51 v228 v257 ∧
  k0_chk35_15 v1 k0_t51 v228 v257 ∧
  k0_chk35_16 v1 k0_t51 v228 v257 ∧
  k0_chk35_17 v1 k0_t51 v228 v257 ∧
  k0_chk35_18 v1 k0_t51 v228 v257 ∧
  k0_chk35_19 v1 k0_t51 v228 v257 ∧
  k0_chk35_20 v1 k0_t51 v228 v257 ∧
  k0_chk35_21 v1 k0_t51 v228 v257 ∧
  k0_chk35_22 v1 k0_t51 v228 v257 ∧
  k0_chk35_23 v1 k0_t51 v228 v257 ∧
  k0_chk35_24 v1 k0_t51 v228 v257 ∧
  k0_chk35_25 v1 k0_t51 v228 v257 ∧
  k0_chk35_26 v1 k0_t51 v228 v257 ∧
  k0_chk35_27 v1 k0_t51 v228 v257 ∧
  k0_chk35_28 v1 k0_t51 v228 v257 ∧
  k0_chk35_29 v1 k0_t51 v228 v257 ∧
  k0_chk35_30 v1 k0_t51 v228 v257 ∧
  k0_chk35_31 v1 k0_t51 v228 v257 ∧
  k0_chk35_32 v1 k0_t51 v228 v257 ∧
  k0_chk35_33 v1 k0_t51 v228 v257 ∧
  k0_chk35_34 v1 k0_t51 v228 v257 ∧
  k0_chk35_35 v1 k0_t51 v228 v257 ∧
  k0_chk35_36 v1 k0_t51 v228 v257 ∧
  k0_chk35_37 v1 k0_t51 v228 v257 ∧
  k0_chk35_38 v1 k0_t51 v228 v257 ∧
  k0_chk35_39 v1 k0_t51 v228 v257 ∧
  k0_chk35_40 v1 k0_t51 v228 v257 ∧
  k0_chk35_41 v1 k0_t51 v228 v257 ∧
  k0_chk35_42 v1 k0_t51 v228 v257 ∧
  k0_chk35_43 v1 k0_t51 v228 v257 ∧
  k0_chk35_44 v1 k0_t51 v228 v257 ∧
  k0_chk35_45 v1 k0_t51 v228 v257 ∧
  k0_chk35_46 v1 k0_t51 v228 v257 ∧
  k0_chk35_47 v1 k0_t51 v228 v257 ∧
  k0_chk35_48 v1 k0_t51 v228 v257 ∧
  k0_chk35_49 v1 k0_t51 v228 v257 ∧
  k0_chk35_50 v1 k0_t51 v228 v257 ∧
  k0_chk35_51 v1 k0_t51 v228 v257 ∧
  k0_chk35_52 v1 k0_t51 v228 v257 ∧
  k0_chk35_53 v1 k0_t51 v228 v257 ∧
  k0_chk35_54 v1 k0_t51 v228 v257 ∧
  k0_chk35_55 v1 k0_t51 v228 v257 ∧
  k0_chk35_56 v1 k0_t51 v228 v257 ∧
  k0_chk35_57 v1 k0_t51 v228 v257 ∧
  k0_chk35_58 v1 k0_t51 v228 v257 ∧
  k0_chk35_59 v1 k0_t51 v228 v257 ∧
  k0_chk35_60 v1 k0_t51 v228 v257 ∧
  k0_chk35_61 v1 k0_t51 v228 v257
theorem k0_t52_ok : ∀ (v1 : BitVec 32) (k0_t51 : Fin (k0_t51_loop v1).trips) (v228 : BitVec 32) (v257 : BitVec 32) (k0_hw35 : k0_chk35 v1 k0_t51 v228 v257), (k0_t52_loop v228 v257).OK := fun v1 k0_t51 v228 v257 k0_hw35 => k0_hw35.1.1
theorem k0_off1957_inb : ∀ (v1 : BitVec 32) (k0_t51 : Fin (k0_t51_loop v1).trips) (v228 : BitVec 32) (v257 : BitVec 32) (k0_hw35 : k0_chk35 v1 k0_t51 v228 v257) (k0_t52 : Fin (k0_t52_loop v228 v257).trips), ∀ a, (k0_off1957 v1 k0_t51) a + S1x1.size a ≤ S2x2.size a := fun v1 k0_t51 v228 v257 k0_hw35 k0_t52 => k0_hw35.1.2.1 k0_t52
theorem k0_off1958_inb : ∀ (v1 : BitVec 32) (k0_t51 : Fin (k0_t51_loop v1).trips) (v228 : BitVec 32) (v257 : BitVec 32) (k0_hw35 : k0_chk35 v1 k0_t51 v228 v257) (k0_t52 : Fin (k0_t52_loop v228 v257).trips), ∀ a, (k0_off1958 v1 k0_t51 v228 v257 k0_t52) a + S1x1x1x1728x128.size a ≤ S2x2x8x1728x128.size a := fun v1 k0_t51 v228 v257 k0_hw35 k0_t52 => k0_hw35.1.2.2.1 k0_t52
theorem k0_off1958_wordsfp8e4m3 : ∀ (v1 : BitVec 32) (k0_t51 : Fin (k0_t51_loop v1).trips) (v228 : BitVec 32) (v257 : BitVec 32) (k0_hw35 : k0_chk35 v1 k0_t51 v228 v257) (k0_t52 : Fin (k0_t52_loop v228 v257).trips), (Rect.unit (s := S2x2x8x1728x128) (k0_off1958 v1 k0_t51 v228 v257 k0_t52) S1x1x1x1728x128.size (k0_off1958_inb v1 k0_t51 v228 v257 k0_hw35 k0_t52)).WholeWords (EltTy.packing .fp8e4m3) := fun v1 k0_t51 v228 v257 k0_hw35 k0_t52 => k0_hw35.1.2.2.2.1 k0_t52 (k0_off1958_inb v1 k0_t51 v228 v257 k0_hw35 k0_t52)
theorem k0_t53_ok : ∀ (v1 : BitVec 32) (k0_t51 : Fin (k0_t51_loop v1).trips) (v228 : BitVec 32) (v257 : BitVec 32) (k0_hw35 : k0_chk35 v1 k0_t51 v228 v257), (k0_t53_loop v228 v257).OK := fun v1 k0_t51 v228 v257 k0_hw35 => k0_hw35.1.2.2.2.2.1
theorem k0_off1959_inb : ∀ (v1 : BitVec 32) (k0_t51 : Fin (k0_t51_loop v1).trips) (v228 : BitVec 32) (v257 : BitVec 32) (k0_hw35 : k0_chk35 v1 k0_t51 v228 v257) (k0_t53 : Fin (k0_t53_loop v228 v257).trips), ∀ a, (k0_off1959 v1 k0_t51) a + S1x1.size a ≤ S2x2.size a := fun v1 k0_t51 v228 v257 k0_hw35 k0_t53 => k0_hw35.1.2.2.2.2.2.1 k0_t53
theorem k0_off1960_inb : ∀ (v1 : BitVec 32) (k0_t51 : Fin (k0_t51_loop v1).trips) (v228 : BitVec 32) (v257 : BitVec 32) (k0_hw35 : k0_chk35 v1 k0_t51 v228 v257) (k0_t53 : Fin (k0_t53_loop v228 v257).trips), ∀ a, (k0_off1960 v1 k0_t51 v228 v257 k0_t53) a + S1x1x1x1728x128.size a ≤ S2x2x8x1728x128.size a := fun v1 k0_t51 v228 v257 k0_hw35 k0_t53 => k0_hw35.1.2.2.2.2.2.2.1 k0_t53
theorem k0_off1960_wordsfp8e4m3 : ∀ (v1 : BitVec 32) (k0_t51 : Fin (k0_t51_loop v1).trips) (v228 : BitVec 32) (v257 : BitVec 32) (k0_hw35 : k0_chk35 v1 k0_t51 v228 v257) (k0_t53 : Fin (k0_t53_loop v228 v257).trips), (Rect.unit (s := S2x2x8x1728x128) (k0_off1960 v1 k0_t51 v228 v257 k0_t53) S1x1x1x1728x128.size (k0_off1960_inb v1 k0_t51 v228 v257 k0_hw35 k0_t53)).WholeWords (EltTy.packing .fp8e4m3) := fun v1 k0_t51 v228 v257 k0_hw35 k0_t53 => k0_hw35.1.2.2.2.2.2.2.2.1 k0_t53 (k0_off1960_inb v1 k0_t51 v228 v257 k0_hw35 k0_t53)
theorem k0_t54_ok : ∀ (v1 : BitVec 32) (k0_t51 : Fin (k0_t51_loop v1).trips) (v228 : BitVec 32) (v257 : BitVec 32) (k0_hw35 : k0_chk35 v1 k0_t51 v228 v257), (k0_t54_loop v228 v257).OK := fun v1 k0_t51 v228 v257 k0_hw35 => k0_hw35.1.2.2.2.2.2.2.2.2.1
theorem k0_off1963_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off1963 v228 v257 k0_t54) a + S1x1.size a ≤ S8x128.size a := fun v1 k0_t51 v228 v257 k0_hw35 k0_t54 => k0_hw35.1.2.2.2.2.2.2.2.2.2.1 k0_t54
theorem k0_off1964_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off1964 v228) a + S1.size a ≤ S8.size a := fun v1 k0_t51 v228 v257 k0_hw35 k0_t54 => k0_hw35.1.2.2.2.2.2.2.2.2.2.2.1 k0_t54
theorem k0_mult18_dvd : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), 16 ∣ (k0_mult18 v228 v257 k0_t54).toNat := fun v1 k0_t51 v228 v257 k0_hw35 k0_t54 => k0_hw35.1.2.2.2.2.2.2.2.2.2.2.2.1 k0_t54
theorem k0_off1965_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off1965 v1 k0_t51 v228 v257 k0_t54) a + S1x1x1x32x128.size a ≤ S2x2x8x1728x128.size a := fun v1 k0_t51 v228 v257 k0_hw35 k0_t54 => k0_hw35.1.2.2.2.2.2.2.2.2.2.2.2.2.1 k0_t54
theorem k0_off1967_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off1967 v1 k0_t51 v228 v257 k0_t54) a + S1x1x1x16x128.size a ≤ S2x2x108x128x128.size a := fun v1 k0_t51 v228 v257 k0_hw35 k0_t54 => k0_hw35.1.2.2.2.2.2.2.2.2.2.2.2.2.2.1 k0_t54
theorem k0_off1967_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off1967 v1 k0_t51 v228 v257 k0_t54) S1x1x1x16x128.size (k0_off1967_inb v1 k0_t51 v228 v257 k0_hw35 k0_t54)).PackedRows (EltTy.packing .bf16) := fun v1 k0_t51 v228 v257 k0_hw35 k0_t54 => k0_hw35.1.2.2.2.2.2.2.2.2.2.2.2.2.2.2.1 k0_t54 (k0_off1967_inb v1 k0_t51 v228 v257 k0_hw35 k0_t54)
theorem k0_off1969_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off1969 v1 k0_t51 v228 v257 k0_t54) a + S1x1x1x16x128.size a ≤ S2x2x108x128x128.size a := fun v1 k0_t51 v228 v257 k0_hw35 k0_t54 => k0_hw35.1.2.2.2.2.2.2.2.2.2.2.2.2.2.2.2.1 k0_t54
theorem k0_off1969_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off1969 v1 k0_t51 v228 v257 k0_t54) S1x1x1x16x128.size (k0_off1969_inb v1 k0_t51 v228 v257 k0_hw35 k0_t54)).PackedRows (EltTy.packing .bf16) := fun v1 k0_t51 v228 v257 k0_hw35 k0_t54 => k0_hw35.1.2.2.2.2.2.2.2.2.2.2.2.2.2.2.2.2.1 k0_t54 (k0_off1969_inb v1 k0_t51 v228 v257 k0_hw35 k0_t54)
theorem k0_off1970_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off1970 v1 k0_t51 v228 v257 k0_t54) a + S1x1x1x32x128.size a ≤ S2x2x8x1728x128.size a := fun v1 k0_t51 v228 v257 k0_hw35 k0_t54 => k0_hw35.1.2.2.2.2.2.2.2.2.2.2.2.2.2.2.2.2.2.1 k0_t54
theorem k0_off1972_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off1972 v1 k0_t51 v228 v257 k0_t54) a + S1x1x1x16x128.size a ≤ S2x2x108x128x128.size a := fun v1 k0_t51 v228 v257 k0_hw35 k0_t54 => k0_hw35.1.2.2.2.2.2.2.2.2.2.2.2.2.2.2.2.2.2.2.1 k0_t54
theorem k0_off1972_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off1972 v1 k0_t51 v228 v257 k0_t54) S1x1x1x16x128.size (k0_off1972_inb v1 k0_t51 v228 v257 k0_hw35 k0_t54)).PackedRows (EltTy.packing .bf16) := fun v1 k0_t51 v228 v257 k0_hw35 k0_t54 => k0_hw35.1.2.2.2.2.2.2.2.2.2.2.2.2.2.2.2.2.2.2.2.1 k0_t54 (k0_off1972_inb v1 k0_t51 v228 v257 k0_hw35 k0_t54)
theorem k0_off1974_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off1974 v1 k0_t51 v228 v257 k0_t54) a + S1x1x1x16x128.size a ≤ S2x2x108x128x128.size a := fun v1 k0_t51 v228 v257 k0_hw35 k0_t54 => k0_hw35.1.2.2.2.2.2.2.2.2.2.2.2.2.2.2.2.2.2.2.2.2.1 k0_t54
theorem k0_off1974_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off1974 v1 k0_t51 v228 v257 k0_t54) S1x1x1x16x128.size (k0_off1974_inb v1 k0_t51 v228 v257 k0_hw35 k0_t54)).PackedRows (EltTy.packing .bf16) := fun v1 k0_t51 v228 v257 k0_hw35 k0_t54 => k0_hw35.1.2.2.2.2.2.2.2.2.2.2.2.2.2.2.2.2.2.2.2.2.2.1 k0_t54 (k0_off1974_inb v1 k0_t51 v228 v257 k0_hw35 k0_t54)
theorem k0_off1975_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off1975 v1 k0_t51 v228 v257 k0_t54) a + S1x1x1x32x128.size a ≤ S2x2x8x1728x128.size a := fun v1 k0_t51 v228 v257 k0_hw35 k0_t54 => k0_hw35.1.2.2.2.2.2.2.2.2.2.2.2.2.2.2.2.2.2.2.2.2.2.2.1 k0_t54
theorem k0_off1977_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off1977 v1 k0_t51 v228 v257 k0_t54) a + S1x1x1x16x128.size a ≤ S2x2x108x128x128.size a := fun v1 k0_t51 v228 v257 k0_hw35 k0_t54 => k0_hw35.1.2.2.2.2.2.2.2.2.2.2.2.2.2.2.2.2.2.2.2.2.2.2.2.1 k0_t54
theorem k0_off1977_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off1977 v1 k0_t51 v228 v257 k0_t54) S1x1x1x16x128.size (k0_off1977_inb v1 k0_t51 v228 v257 k0_hw35 k0_t54)).PackedRows (EltTy.packing .bf16) := fun v1 k0_t51 v228 v257 k0_hw35 k0_t54 => k0_hw35.1.2.2.2.2.2.2.2.2.2.2.2.2.2.2.2.2.2.2.2.2.2.2.2.2.1 k0_t54 (k0_off1977_inb v1 k0_t51 v228 v257 k0_hw35 k0_t54)
theorem k0_off1979_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off1979 v1 k0_t51 v228 v257 k0_t54) a + S1x1x1x16x128.size a ≤ S2x2x108x128x128.size a := fun v1 k0_t51 v228 v257 k0_hw35 k0_t54 => k0_hw35.1.2.2.2.2.2.2.2.2.2.2.2.2.2.2.2.2.2.2.2.2.2.2.2.2.2.1 k0_t54
theorem k0_off1979_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off1979 v1 k0_t51 v228 v257 k0_t54) S1x1x1x16x128.size (k0_off1979_inb v1 k0_t51 v228 v257 k0_hw35 k0_t54)).PackedRows (EltTy.packing .bf16) := fun v1 k0_t51 v228 v257 k0_hw35 k0_t54 => k0_hw35.1.2.2.2.2.2.2.2.2.2.2.2.2.2.2.2.2.2.2.2.2.2.2.2.2.2.2.1 k0_t54 (k0_off1979_inb v1 k0_t51 v228 v257 k0_hw35 k0_t54)
theorem k0_off1980_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off1980 v1 k0_t51 v228 v257 k0_t54) a + S1x1x1x32x128.size a ≤ S2x2x8x1728x128.size a := fun v1 k0_t51 v228 v257 k0_hw35 k0_t54 => k0_hw35.1.2.2.2.2.2.2.2.2.2.2.2.2.2.2.2.2.2.2.2.2.2.2.2.2.2.2.2.1 k0_t54
theorem k0_off1982_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off1982 v1 k0_t51 v228 v257 k0_t54) a + S1x1x1x16x128.size a ≤ S2x2x108x128x128.size a := fun v1 k0_t51 v228 v257 k0_hw35 k0_t54 => k0_hw35.1.2.2.2.2.2.2.2.2.2.2.2.2.2.2.2.2.2.2.2.2.2.2.2.2.2.2.2.2.1 k0_t54
theorem k0_off1982_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off1982 v1 k0_t51 v228 v257 k0_t54) S1x1x1x16x128.size (k0_off1982_inb v1 k0_t51 v228 v257 k0_hw35 k0_t54)).PackedRows (EltTy.packing .bf16) := fun v1 k0_t51 v228 v257 k0_hw35 k0_t54 => k0_hw35.1.2.2.2.2.2.2.2.2.2.2.2.2.2.2.2.2.2.2.2.2.2.2.2.2.2.2.2.2.2.1 k0_t54 (k0_off1982_inb v1 k0_t51 v228 v257 k0_hw35 k0_t54)
theorem k0_off1984_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off1984 v1 k0_t51 v228 v257 k0_t54) a + S1x1x1x16x128.size a ≤ S2x2x108x128x128.size a := fun v1 k0_t51 v228 v257 k0_hw35 k0_t54 => k0_hw35.1.2.2.2.2.2.2.2.2.2.2.2.2.2.2.2.2.2.2.2.2.2.2.2.2.2.2.2.2.2.2.1 k0_t54
theorem k0_off1984_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off1984 v1 k0_t51 v228 v257 k0_t54) S1x1x1x16x128.size (k0_off1984_inb v1 k0_t51 v228 v257 k0_hw35 k0_t54)).PackedRows (EltTy.packing .bf16) := fun v1 k0_t51 v228 v257 k0_hw35 k0_t54 => k0_hw35.1.2.2.2.2.2.2.2.2.2.2.2.2.2.2.2.2.2.2.2.2.2.2.2.2.2.2.2.2.2.2.2 k0_t54 (k0_off1984_inb v1 k0_t51 v228 v257 k0_hw35 k0_t54)
theorem k0_off1985_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off1985 v1 k0_t51 v228 v257 k0_t54) a + S1x1x1x32x128.size a ≤ S2x2x8x1728x128.size a := fun v1 k0_t51 v228 v257 k0_hw35 k0_t54 => k0_hw35.2.1.1 k0_t54
theorem k0_off1987_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off1987 v1 k0_t51 v228 v257 k0_t54) a + S1x1x1x16x128.size a ≤ S2x2x108x128x128.size a := fun v1 k0_t51 v228 v257 k0_hw35 k0_t54 => k0_hw35.2.1.2.1 k0_t54
theorem k0_off1987_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off1987 v1 k0_t51 v228 v257 k0_t54) S1x1x1x16x128.size (k0_off1987_inb v1 k0_t51 v228 v257 k0_hw35 k0_t54)).PackedRows (EltTy.packing .bf16) := fun v1 k0_t51 v228 v257 k0_hw35 k0_t54 => k0_hw35.2.1.2.2.1 k0_t54 (k0_off1987_inb v1 k0_t51 v228 v257 k0_hw35 k0_t54)
theorem k0_off1989_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off1989 v1 k0_t51 v228 v257 k0_t54) a + S1x1x1x16x128.size a ≤ S2x2x108x128x128.size a := fun v1 k0_t51 v228 v257 k0_hw35 k0_t54 => k0_hw35.2.1.2.2.2.1 k0_t54
theorem k0_off1989_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off1989 v1 k0_t51 v228 v257 k0_t54) S1x1x1x16x128.size (k0_off1989_inb v1 k0_t51 v228 v257 k0_hw35 k0_t54)).PackedRows (EltTy.packing .bf16) := fun v1 k0_t51 v228 v257 k0_hw35 k0_t54 => k0_hw35.2.1.2.2.2.2.1 k0_t54 (k0_off1989_inb v1 k0_t51 v228 v257 k0_hw35 k0_t54)
theorem k0_off1990_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off1990 v1 k0_t51 v228 v257 k0_t54) a + S1x1x1x32x128.size a ≤ S2x2x8x1728x128.size a := fun v1 k0_t51 v228 v257 k0_hw35 k0_t54 => k0_hw35.2.1.2.2.2.2.2.1 k0_t54
theorem k0_off1992_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off1992 v1 k0_t51 v228 v257 k0_t54) a + S1x1x1x16x128.size a ≤ S2x2x108x128x128.size a := fun v1 k0_t51 v228 v257 k0_hw35 k0_t54 => k0_hw35.2.1.2.2.2.2.2.2.1 k0_t54
theorem k0_off1992_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off1992 v1 k0_t51 v228 v257 k0_t54) S1x1x1x16x128.size (k0_off1992_inb v1 k0_t51 v228 v257 k0_hw35 k0_t54)).PackedRows (EltTy.packing .bf16) := fun v1 k0_t51 v228 v257 k0_hw35 k0_t54 => k0_hw35.2.1.2.2.2.2.2.2.2.1 k0_t54 (k0_off1992_inb v1 k0_t51 v228 v257 k0_hw35 k0_t54)
theorem k0_off1994_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off1994 v1 k0_t51 v228 v257 k0_t54) a + S1x1x1x16x128.size a ≤ S2x2x108x128x128.size a := fun v1 k0_t51 v228 v257 k0_hw35 k0_t54 => k0_hw35.2.1.2.2.2.2.2.2.2.2.1 k0_t54
theorem k0_off1994_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off1994 v1 k0_t51 v228 v257 k0_t54) S1x1x1x16x128.size (k0_off1994_inb v1 k0_t51 v228 v257 k0_hw35 k0_t54)).PackedRows (EltTy.packing .bf16) := fun v1 k0_t51 v228 v257 k0_hw35 k0_t54 => k0_hw35.2.1.2.2.2.2.2.2.2.2.2.1 k0_t54 (k0_off1994_inb v1 k0_t51 v228 v257 k0_hw35 k0_t54)
theorem k0_off1995_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off1995 v1 k0_t51 v228 v257 k0_t54) a + S1x1x1x32x128.size a ≤ S2x2x8x1728x128.size a := fun v1 k0_t51 v228 v257 k0_hw35 k0_t54 => k0_hw35.2.1.2.2.2.2.2.2.2.2.2.2.1 k0_t54
theorem k0_off1997_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off1997 v1 k0_t51 v228 v257 k0_t54) a + S1x1x1x16x128.size a ≤ S2x2x108x128x128.size a := fun v1 k0_t51 v228 v257 k0_hw35 k0_t54 => k0_hw35.2.1.2.2.2.2.2.2.2.2.2.2.2.1 k0_t54
theorem k0_off1997_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off1997 v1 k0_t51 v228 v257 k0_t54) S1x1x1x16x128.size (k0_off1997_inb v1 k0_t51 v228 v257 k0_hw35 k0_t54)).PackedRows (EltTy.packing .bf16) := fun v1 k0_t51 v228 v257 k0_hw35 k0_t54 => k0_hw35.2.1.2.2.2.2.2.2.2.2.2.2.2.2.1 k0_t54 (k0_off1997_inb v1 k0_t51 v228 v257 k0_hw35 k0_t54)
theorem k0_off1999_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off1999 v1 k0_t51 v228 v257 k0_t54) a + S1x1x1x16x128.size a ≤ S2x2x108x128x128.size a := fun v1 k0_t51 v228 v257 k0_hw35 k0_t54 => k0_hw35.2.1.2.2.2.2.2.2.2.2.2.2.2.2.2.1 k0_t54
theorem k0_off1999_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off1999 v1 k0_t51 v228 v257 k0_t54) S1x1x1x16x128.size (k0_off1999_inb v1 k0_t51 v228 v257 k0_hw35 k0_t54)).PackedRows (EltTy.packing .bf16) := fun v1 k0_t51 v228 v257 k0_hw35 k0_t54 => k0_hw35.2.1.2.2.2.2.2.2.2.2.2.2.2.2.2.2.1 k0_t54 (k0_off1999_inb v1 k0_t51 v228 v257 k0_hw35 k0_t54)
theorem k0_off2000_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2000 v1 k0_t51 v228 v257 k0_t54) a + S1x1x1x32x128.size a ≤ S2x2x8x1728x128.size a := fun v1 k0_t51 v228 v257 k0_hw35 k0_t54 => k0_hw35.2.1.2.2.2.2.2.2.2.2.2.2.2.2.2.2.2.1 k0_t54
theorem k0_off2002_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2002 v1 k0_t51 v228 v257 k0_t54) a + S1x1x1x16x128.size a ≤ S2x2x108x128x128.size a := fun v1 k0_t51 v228 v257 k0_hw35 k0_t54 => k0_hw35.2.1.2.2.2.2.2.2.2.2.2.2.2.2.2.2.2.2.1 k0_t54
theorem k0_off2002_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2002 v1 k0_t51 v228 v257 k0_t54) S1x1x1x16x128.size (k0_off2002_inb v1 k0_t51 v228 v257 k0_hw35 k0_t54)).PackedRows (EltTy.packing .bf16) := fun v1 k0_t51 v228 v257 k0_hw35 k0_t54 => k0_hw35.2.1.2.2.2.2.2.2.2.2.2.2.2.2.2.2.2.2.2.1 k0_t54 (k0_off2002_inb v1 k0_t51 v228 v257 k0_hw35 k0_t54)
theorem k0_off2004_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2004 v1 k0_t51 v228 v257 k0_t54) a + S1x1x1x16x128.size a ≤ S2x2x108x128x128.size a := fun v1 k0_t51 v228 v257 k0_hw35 k0_t54 => k0_hw35.2.1.2.2.2.2.2.2.2.2.2.2.2.2.2.2.2.2.2.2.1 k0_t54
theorem k0_off2004_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2004 v1 k0_t51 v228 v257 k0_t54) S1x1x1x16x128.size (k0_off2004_inb v1 k0_t51 v228 v257 k0_hw35 k0_t54)).PackedRows (EltTy.packing .bf16) := fun v1 k0_t51 v228 v257 k0_hw35 k0_t54 => k0_hw35.2.1.2.2.2.2.2.2.2.2.2.2.2.2.2.2.2.2.2.2.2.1 k0_t54 (k0_off2004_inb v1 k0_t51 v228 v257 k0_hw35 k0_t54)
theorem k0_off2005_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2005 v1 k0_t51 v228 v257 k0_t54) a + S1x1x1x32x128.size a ≤ S2x2x8x1728x128.size a := fun v1 k0_t51 v228 v257 k0_hw35 k0_t54 => k0_hw35.2.1.2.2.2.2.2.2.2.2.2.2.2.2.2.2.2.2.2.2.2.2.1 k0_t54
theorem k0_off2007_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2007 v1 k0_t51 v228 v257 k0_t54) a + S1x1x1x16x128.size a ≤ S2x2x108x128x128.size a := fun v1 k0_t51 v228 v257 k0_hw35 k0_t54 => k0_hw35.2.1.2.2.2.2.2.2.2.2.2.2.2.2.2.2.2.2.2.2.2.2.2.1 k0_t54
theorem k0_off2007_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2007 v1 k0_t51 v228 v257 k0_t54) S1x1x1x16x128.size (k0_off2007_inb v1 k0_t51 v228 v257 k0_hw35 k0_t54)).PackedRows (EltTy.packing .bf16) := fun v1 k0_t51 v228 v257 k0_hw35 k0_t54 => k0_hw35.2.1.2.2.2.2.2.2.2.2.2.2.2.2.2.2.2.2.2.2.2.2.2.2.1 k0_t54 (k0_off2007_inb v1 k0_t51 v228 v257 k0_hw35 k0_t54)
theorem k0_off2009_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2009 v1 k0_t51 v228 v257 k0_t54) a + S1x1x1x16x128.size a ≤ S2x2x108x128x128.size a := fun v1 k0_t51 v228 v257 k0_hw35 k0_t54 => k0_hw35.2.1.2.2.2.2.2.2.2.2.2.2.2.2.2.2.2.2.2.2.2.2.2.2.2.1 k0_t54
theorem k0_off2009_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2009 v1 k0_t51 v228 v257 k0_t54) S1x1x1x16x128.size (k0_off2009_inb v1 k0_t51 v228 v257 k0_hw35 k0_t54)).PackedRows (EltTy.packing .bf16) := fun v1 k0_t51 v228 v257 k0_hw35 k0_t54 => k0_hw35.2.1.2.2.2.2.2.2.2.2.2.2.2.2.2.2.2.2.2.2.2.2.2.2.2.2.1 k0_t54 (k0_off2009_inb v1 k0_t51 v228 v257 k0_hw35 k0_t54)
theorem k0_off2010_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2010 v1 k0_t51 v228 v257 k0_t54) a + S1x1x1x32x128.size a ≤ S2x2x8x1728x128.size a := fun v1 k0_t51 v228 v257 k0_hw35 k0_t54 => k0_hw35.2.1.2.2.2.2.2.2.2.2.2.2.2.2.2.2.2.2.2.2.2.2.2.2.2.2.2.1 k0_t54
theorem k0_off2012_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2012 v1 k0_t51 v228 v257 k0_t54) a + S1x1x1x16x128.size a ≤ S2x2x108x128x128.size a := fun v1 k0_t51 v228 v257 k0_hw35 k0_t54 => k0_hw35.2.1.2.2.2.2.2.2.2.2.2.2.2.2.2.2.2.2.2.2.2.2.2.2.2.2.2.2.1 k0_t54
theorem k0_off2012_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2012 v1 k0_t51 v228 v257 k0_t54) S1x1x1x16x128.size (k0_off2012_inb v1 k0_t51 v228 v257 k0_hw35 k0_t54)).PackedRows (EltTy.packing .bf16) := fun v1 k0_t51 v228 v257 k0_hw35 k0_t54 => k0_hw35.2.1.2.2.2.2.2.2.2.2.2.2.2.2.2.2.2.2.2.2.2.2.2.2.2.2.2.2.2.1 k0_t54 (k0_off2012_inb v1 k0_t51 v228 v257 k0_hw35 k0_t54)
theorem k0_off2014_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2014 v1 k0_t51 v228 v257 k0_t54) a + S1x1x1x16x128.size a ≤ S2x2x108x128x128.size a := fun v1 k0_t51 v228 v257 k0_hw35 k0_t54 => k0_hw35.2.1.2.2.2.2.2.2.2.2.2.2.2.2.2.2.2.2.2.2.2.2.2.2.2.2.2.2.2.2.1 k0_t54
theorem k0_off2014_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2014 v1 k0_t51 v228 v257 k0_t54) S1x1x1x16x128.size (k0_off2014_inb v1 k0_t51 v228 v257 k0_hw35 k0_t54)).PackedRows (EltTy.packing .bf16) := fun v1 k0_t51 v228 v257 k0_hw35 k0_t54 => k0_hw35.2.1.2.2.2.2.2.2.2.2.2.2.2.2.2.2.2.2.2.2.2.2.2.2.2.2.2.2.2.2.2.1 k0_t54 (k0_off2014_inb v1 k0_t51 v228 v257 k0_hw35 k0_t54)
theorem k0_off2015_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2015 v1 k0_t51 v228 v257 k0_t54) a + S1x1x1x32x128.size a ≤ S2x2x8x1728x128.size a := fun v1 k0_t51 v228 v257 k0_hw35 k0_t54 => k0_hw35.2.1.2.2.2.2.2.2.2.2.2.2.2.2.2.2.2.2.2.2.2.2.2.2.2.2.2.2.2.2.2.2.1 k0_t54
theorem k0_off2017_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2017 v1 k0_t51 v228 v257 k0_t54) a + S1x1x1x16x128.size a ≤ S2x2x108x128x128.size a := fun v1 k0_t51 v228 v257 k0_hw35 k0_t54 => k0_hw35.2.1.2.2.2.2.2.2.2.2.2.2.2.2.2.2.2.2.2.2.2.2.2.2.2.2.2.2.2.2.2.2.2 k0_t54
theorem k0_off2017_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2017 v1 k0_t51 v228 v257 k0_t54) S1x1x1x16x128.size (k0_off2017_inb v1 k0_t51 v228 v257 k0_hw35 k0_t54)).PackedRows (EltTy.packing .bf16) := fun v1 k0_t51 v228 v257 k0_hw35 k0_t54 => k0_hw35.2.2.1.1 k0_t54 (k0_off2017_inb v1 k0_t51 v228 v257 k0_hw35 k0_t54)
theorem k0_off2019_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2019 v1 k0_t51 v228 v257 k0_t54) a + S1x1x1x16x128.size a ≤ S2x2x108x128x128.size a := fun v1 k0_t51 v228 v257 k0_hw35 k0_t54 => k0_hw35.2.2.1.2.1 k0_t54
theorem k0_off2019_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2019 v1 k0_t51 v228 v257 k0_t54) S1x1x1x16x128.size (k0_off2019_inb v1 k0_t51 v228 v257 k0_hw35 k0_t54)).PackedRows (EltTy.packing .bf16) := fun v1 k0_t51 v228 v257 k0_hw35 k0_t54 => k0_hw35.2.2.1.2.2.1 k0_t54 (k0_off2019_inb v1 k0_t51 v228 v257 k0_hw35 k0_t54)
theorem k0_off2020_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2020 v1 k0_t51 v228 v257 k0_t54) a + S1x1x1x32x128.size a ≤ S2x2x8x1728x128.size a := fun v1 k0_t51 v228 v257 k0_hw35 k0_t54 => k0_hw35.2.2.1.2.2.2.1 k0_t54
theorem k0_off2022_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2022 v1 k0_t51 v228 v257 k0_t54) a + S1x1x1x16x128.size a ≤ S2x2x108x128x128.size a := fun v1 k0_t51 v228 v257 k0_hw35 k0_t54 => k0_hw35.2.2.1.2.2.2.2.1 k0_t54
theorem k0_off2022_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2022 v1 k0_t51 v228 v257 k0_t54) S1x1x1x16x128.size (k0_off2022_inb v1 k0_t51 v228 v257 k0_hw35 k0_t54)).PackedRows (EltTy.packing .bf16) := fun v1 k0_t51 v228 v257 k0_hw35 k0_t54 => k0_hw35.2.2.1.2.2.2.2.2.1 k0_t54 (k0_off2022_inb v1 k0_t51 v228 v257 k0_hw35 k0_t54)
theorem k0_off2024_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2024 v1 k0_t51 v228 v257 k0_t54) a + S1x1x1x16x128.size a ≤ S2x2x108x128x128.size a := fun v1 k0_t51 v228 v257 k0_hw35 k0_t54 => k0_hw35.2.2.1.2.2.2.2.2.2.1 k0_t54
theorem k0_off2024_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2024 v1 k0_t51 v228 v257 k0_t54) S1x1x1x16x128.size (k0_off2024_inb v1 k0_t51 v228 v257 k0_hw35 k0_t54)).PackedRows (EltTy.packing .bf16) := fun v1 k0_t51 v228 v257 k0_hw35 k0_t54 => k0_hw35.2.2.1.2.2.2.2.2.2.2.1 k0_t54 (k0_off2024_inb v1 k0_t51 v228 v257 k0_hw35 k0_t54)
theorem k0_off2025_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2025 v1 k0_t51 v228 v257 k0_t54) a + S1x1x1x32x128.size a ≤ S2x2x8x1728x128.size a := fun v1 k0_t51 v228 v257 k0_hw35 k0_t54 => k0_hw35.2.2.1.2.2.2.2.2.2.2.2.1 k0_t54
theorem k0_off2027_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2027 v1 k0_t51 v228 v257 k0_t54) a + S1x1x1x16x128.size a ≤ S2x2x108x128x128.size a := fun v1 k0_t51 v228 v257 k0_hw35 k0_t54 => k0_hw35.2.2.1.2.2.2.2.2.2.2.2.2.1 k0_t54
theorem k0_off2027_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2027 v1 k0_t51 v228 v257 k0_t54) S1x1x1x16x128.size (k0_off2027_inb v1 k0_t51 v228 v257 k0_hw35 k0_t54)).PackedRows (EltTy.packing .bf16) := fun v1 k0_t51 v228 v257 k0_hw35 k0_t54 => k0_hw35.2.2.1.2.2.2.2.2.2.2.2.2.2.1 k0_t54 (k0_off2027_inb v1 k0_t51 v228 v257 k0_hw35 k0_t54)
theorem k0_off2029_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2029 v1 k0_t51 v228 v257 k0_t54) a + S1x1x1x16x128.size a ≤ S2x2x108x128x128.size a := fun v1 k0_t51 v228 v257 k0_hw35 k0_t54 => k0_hw35.2.2.1.2.2.2.2.2.2.2.2.2.2.2.1 k0_t54
theorem k0_off2029_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2029 v1 k0_t51 v228 v257 k0_t54) S1x1x1x16x128.size (k0_off2029_inb v1 k0_t51 v228 v257 k0_hw35 k0_t54)).PackedRows (EltTy.packing .bf16) := fun v1 k0_t51 v228 v257 k0_hw35 k0_t54 => k0_hw35.2.2.1.2.2.2.2.2.2.2.2.2.2.2.2.1 k0_t54 (k0_off2029_inb v1 k0_t51 v228 v257 k0_hw35 k0_t54)
theorem k0_off2030_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2030 v1 k0_t51 v228 v257 k0_t54) a + S1x1x1x32x128.size a ≤ S2x2x8x1728x128.size a := fun v1 k0_t51 v228 v257 k0_hw35 k0_t54 => k0_hw35.2.2.1.2.2.2.2.2.2.2.2.2.2.2.2.2.1 k0_t54
theorem k0_off2032_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2032 v1 k0_t51 v228 v257 k0_t54) a + S1x1x1x16x128.size a ≤ S2x2x108x128x128.size a := fun v1 k0_t51 v228 v257 k0_hw35 k0_t54 => k0_hw35.2.2.1.2.2.2.2.2.2.2.2.2.2.2.2.2.2.1 k0_t54
theorem k0_off2032_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2032 v1 k0_t51 v228 v257 k0_t54) S1x1x1x16x128.size (k0_off2032_inb v1 k0_t51 v228 v257 k0_hw35 k0_t54)).PackedRows (EltTy.packing .bf16) := fun v1 k0_t51 v228 v257 k0_hw35 k0_t54 => k0_hw35.2.2.1.2.2.2.2.2.2.2.2.2.2.2.2.2.2.2.1 k0_t54 (k0_off2032_inb v1 k0_t51 v228 v257 k0_hw35 k0_t54)
theorem k0_off2034_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2034 v1 k0_t51 v228 v257 k0_t54) a + S1x1x1x16x128.size a ≤ S2x2x108x128x128.size a := fun v1 k0_t51 v228 v257 k0_hw35 k0_t54 => k0_hw35.2.2.1.2.2.2.2.2.2.2.2.2.2.2.2.2.2.2.2.1 k0_t54
theorem k0_off2034_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2034 v1 k0_t51 v228 v257 k0_t54) S1x1x1x16x128.size (k0_off2034_inb v1 k0_t51 v228 v257 k0_hw35 k0_t54)).PackedRows (EltTy.packing .bf16) := fun v1 k0_t51 v228 v257 k0_hw35 k0_t54 => k0_hw35.2.2.1.2.2.2.2.2.2.2.2.2.2.2.2.2.2.2.2.2.1 k0_t54 (k0_off2034_inb v1 k0_t51 v228 v257 k0_hw35 k0_t54)
theorem k0_off2035_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2035 v1 k0_t51 v228 v257 k0_t54) a + S1x1x1x32x128.size a ≤ S2x2x8x1728x128.size a := fun v1 k0_t51 v228 v257 k0_hw35 k0_t54 => k0_hw35.2.2.1.2.2.2.2.2.2.2.2.2.2.2.2.2.2.2.2.2.2.1 k0_t54
theorem k0_off2037_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2037 v1 k0_t51 v228 v257 k0_t54) a + S1x1x1x16x128.size a ≤ S2x2x108x128x128.size a := fun v1 k0_t51 v228 v257 k0_hw35 k0_t54 => k0_hw35.2.2.1.2.2.2.2.2.2.2.2.2.2.2.2.2.2.2.2.2.2.2.1 k0_t54
theorem k0_off2037_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2037 v1 k0_t51 v228 v257 k0_t54) S1x1x1x16x128.size (k0_off2037_inb v1 k0_t51 v228 v257 k0_hw35 k0_t54)).PackedRows (EltTy.packing .bf16) := fun v1 k0_t51 v228 v257 k0_hw35 k0_t54 => k0_hw35.2.2.1.2.2.2.2.2.2.2.2.2.2.2.2.2.2.2.2.2.2.2.2.1 k0_t54 (k0_off2037_inb v1 k0_t51 v228 v257 k0_hw35 k0_t54)
theorem k0_off2039_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2039 v1 k0_t51 v228 v257 k0_t54) a + S1x1x1x16x128.size a ≤ S2x2x108x128x128.size a := fun v1 k0_t51 v228 v257 k0_hw35 k0_t54 => k0_hw35.2.2.1.2.2.2.2.2.2.2.2.2.2.2.2.2.2.2.2.2.2.2.2.2.1 k0_t54
theorem k0_off2039_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2039 v1 k0_t51 v228 v257 k0_t54) S1x1x1x16x128.size (k0_off2039_inb v1 k0_t51 v228 v257 k0_hw35 k0_t54)).PackedRows (EltTy.packing .bf16) := fun v1 k0_t51 v228 v257 k0_hw35 k0_t54 => k0_hw35.2.2.1.2.2.2.2.2.2.2.2.2.2.2.2.2.2.2.2.2.2.2.2.2.2.1 k0_t54 (k0_off2039_inb v1 k0_t51 v228 v257 k0_hw35 k0_t54)
theorem k0_off2040_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2040 v1 k0_t51 v228 v257 k0_t54) a + S1x1x1x32x128.size a ≤ S2x2x8x1728x128.size a := fun v1 k0_t51 v228 v257 k0_hw35 k0_t54 => k0_hw35.2.2.1.2.2.2.2.2.2.2.2.2.2.2.2.2.2.2.2.2.2.2.2.2.2.2.1 k0_t54
theorem k0_off2042_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2042 v1 k0_t51 v228 v257 k0_t54) a + S1x1x1x16x128.size a ≤ S2x2x108x128x128.size a := fun v1 k0_t51 v228 v257 k0_hw35 k0_t54 => k0_hw35.2.2.1.2.2.2.2.2.2.2.2.2.2.2.2.2.2.2.2.2.2.2.2.2.2.2.2.1 k0_t54
theorem k0_off2042_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2042 v1 k0_t51 v228 v257 k0_t54) S1x1x1x16x128.size (k0_off2042_inb v1 k0_t51 v228 v257 k0_hw35 k0_t54)).PackedRows (EltTy.packing .bf16) := fun v1 k0_t51 v228 v257 k0_hw35 k0_t54 => k0_hw35.2.2.1.2.2.2.2.2.2.2.2.2.2.2.2.2.2.2.2.2.2.2.2.2.2.2.2.2.1 k0_t54 (k0_off2042_inb v1 k0_t51 v228 v257 k0_hw35 k0_t54)
theorem k0_off2044_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2044 v1 k0_t51 v228 v257 k0_t54) a + S1x1x1x16x128.size a ≤ S2x2x108x128x128.size a := fun v1 k0_t51 v228 v257 k0_hw35 k0_t54 => k0_hw35.2.2.1.2.2.2.2.2.2.2.2.2.2.2.2.2.2.2.2.2.2.2.2.2.2.2.2.2.2.1 k0_t54
theorem k0_off2044_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2044 v1 k0_t51 v228 v257 k0_t54) S1x1x1x16x128.size (k0_off2044_inb v1 k0_t51 v228 v257 k0_hw35 k0_t54)).PackedRows (EltTy.packing .bf16) := fun v1 k0_t51 v228 v257 k0_hw35 k0_t54 => k0_hw35.2.2.1.2.2.2.2.2.2.2.2.2.2.2.2.2.2.2.2.2.2.2.2.2.2.2.2.2.2.2.1 k0_t54 (k0_off2044_inb v1 k0_t51 v228 v257 k0_hw35 k0_t54)
theorem k0_off2045_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2045 v1 k0_t51 v228 v257 k0_t54) a + S1x1x1x32x128.size a ≤ S2x2x8x1728x128.size a := fun v1 k0_t51 v228 v257 k0_hw35 k0_t54 => k0_hw35.2.2.1.2.2.2.2.2.2.2.2.2.2.2.2.2.2.2.2.2.2.2.2.2.2.2.2.2.2.2.2.1 k0_t54
theorem k0_off2047_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2047 v1 k0_t51 v228 v257 k0_t54) a + S1x1x1x16x128.size a ≤ S2x2x108x128x128.size a := fun v1 k0_t51 v228 v257 k0_hw35 k0_t54 => k0_hw35.2.2.1.2.2.2.2.2.2.2.2.2.2.2.2.2.2.2.2.2.2.2.2.2.2.2.2.2.2.2.2.2.1 k0_t54
theorem k0_off2047_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2047 v1 k0_t51 v228 v257 k0_t54) S1x1x1x16x128.size (k0_off2047_inb v1 k0_t51 v228 v257 k0_hw35 k0_t54)).PackedRows (EltTy.packing .bf16) := fun v1 k0_t51 v228 v257 k0_hw35 k0_t54 => k0_hw35.2.2.1.2.2.2.2.2.2.2.2.2.2.2.2.2.2.2.2.2.2.2.2.2.2.2.2.2.2.2.2.2.2.1 k0_t54 (k0_off2047_inb v1 k0_t51 v228 v257 k0_hw35 k0_t54)
theorem k0_off2049_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2049 v1 k0_t51 v228 v257 k0_t54) a + S1x1x1x16x128.size a ≤ S2x2x108x128x128.size a := fun v1 k0_t51 v228 v257 k0_hw35 k0_t54 => k0_hw35.2.2.1.2.2.2.2.2.2.2.2.2.2.2.2.2.2.2.2.2.2.2.2.2.2.2.2.2.2.2.2.2.2.2 k0_t54
theorem k0_off2049_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2049 v1 k0_t51 v228 v257 k0_t54) S1x1x1x16x128.size (k0_off2049_inb v1 k0_t51 v228 v257 k0_hw35 k0_t54)).PackedRows (EltTy.packing .bf16) := fun v1 k0_t51 v228 v257 k0_hw35 k0_t54 => k0_hw35.2.2.2.1.1 k0_t54 (k0_off2049_inb v1 k0_t51 v228 v257 k0_hw35 k0_t54)
theorem k0_off2050_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2050 v1 k0_t51 v228 v257 k0_t54) a + S1x1x1x32x128.size a ≤ S2x2x8x1728x128.size a := fun v1 k0_t51 v228 v257 k0_hw35 k0_t54 => k0_hw35.2.2.2.1.2.1 k0_t54
theorem k0_off2052_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2052 v1 k0_t51 v228 v257 k0_t54) a + S1x1x1x16x128.size a ≤ S2x2x108x128x128.size a := fun v1 k0_t51 v228 v257 k0_hw35 k0_t54 => k0_hw35.2.2.2.1.2.2.1 k0_t54
theorem k0_off2052_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2052 v1 k0_t51 v228 v257 k0_t54) S1x1x1x16x128.size (k0_off2052_inb v1 k0_t51 v228 v257 k0_hw35 k0_t54)).PackedRows (EltTy.packing .bf16) := fun v1 k0_t51 v228 v257 k0_hw35 k0_t54 => k0_hw35.2.2.2.1.2.2.2.1 k0_t54 (k0_off2052_inb v1 k0_t51 v228 v257 k0_hw35 k0_t54)
theorem k0_off2054_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2054 v1 k0_t51 v228 v257 k0_t54) a + S1x1x1x16x128.size a ≤ S2x2x108x128x128.size a := fun v1 k0_t51 v228 v257 k0_hw35 k0_t54 => k0_hw35.2.2.2.1.2.2.2.2.1 k0_t54
theorem k0_off2054_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2054 v1 k0_t51 v228 v257 k0_t54) S1x1x1x16x128.size (k0_off2054_inb v1 k0_t51 v228 v257 k0_hw35 k0_t54)).PackedRows (EltTy.packing .bf16) := fun v1 k0_t51 v228 v257 k0_hw35 k0_t54 => k0_hw35.2.2.2.1.2.2.2.2.2.1 k0_t54 (k0_off2054_inb v1 k0_t51 v228 v257 k0_hw35 k0_t54)
theorem k0_off2055_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2055 v1 k0_t51 v228 v257 k0_t54) a + S1x1x1x32x128.size a ≤ S2x2x8x1728x128.size a := fun v1 k0_t51 v228 v257 k0_hw35 k0_t54 => k0_hw35.2.2.2.1.2.2.2.2.2.2.1 k0_t54
theorem k0_off2057_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2057 v1 k0_t51 v228 v257 k0_t54) a + S1x1x1x16x128.size a ≤ S2x2x108x128x128.size a := fun v1 k0_t51 v228 v257 k0_hw35 k0_t54 => k0_hw35.2.2.2.1.2.2.2.2.2.2.2.1 k0_t54
theorem k0_off2057_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2057 v1 k0_t51 v228 v257 k0_t54) S1x1x1x16x128.size (k0_off2057_inb v1 k0_t51 v228 v257 k0_hw35 k0_t54)).PackedRows (EltTy.packing .bf16) := fun v1 k0_t51 v228 v257 k0_hw35 k0_t54 => k0_hw35.2.2.2.1.2.2.2.2.2.2.2.2.1 k0_t54 (k0_off2057_inb v1 k0_t51 v228 v257 k0_hw35 k0_t54)
theorem k0_off2059_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2059 v1 k0_t51 v228 v257 k0_t54) a + S1x1x1x16x128.size a ≤ S2x2x108x128x128.size a := fun v1 k0_t51 v228 v257 k0_hw35 k0_t54 => k0_hw35.2.2.2.1.2.2.2.2.2.2.2.2.2.1 k0_t54
theorem k0_off2059_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2059 v1 k0_t51 v228 v257 k0_t54) S1x1x1x16x128.size (k0_off2059_inb v1 k0_t51 v228 v257 k0_hw35 k0_t54)).PackedRows (EltTy.packing .bf16) := fun v1 k0_t51 v228 v257 k0_hw35 k0_t54 => k0_hw35.2.2.2.1.2.2.2.2.2.2.2.2.2.2.1 k0_t54 (k0_off2059_inb v1 k0_t51 v228 v257 k0_hw35 k0_t54)
theorem k0_off2060_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2060 v1 k0_t51 v228 v257 k0_t54) a + S1x1x1x32x128.size a ≤ S2x2x8x1728x128.size a := fun v1 k0_t51 v228 v257 k0_hw35 k0_t54 => k0_hw35.2.2.2.1.2.2.2.2.2.2.2.2.2.2.2.1 k0_t54
theorem k0_off2062_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2062 v1 k0_t51 v228 v257 k0_t54) a + S1x1x1x16x128.size a ≤ S2x2x108x128x128.size a := fun v1 k0_t51 v228 v257 k0_hw35 k0_t54 => k0_hw35.2.2.2.1.2.2.2.2.2.2.2.2.2.2.2.2.1 k0_t54
theorem k0_off2062_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2062 v1 k0_t51 v228 v257 k0_t54) S1x1x1x16x128.size (k0_off2062_inb v1 k0_t51 v228 v257 k0_hw35 k0_t54)).PackedRows (EltTy.packing .bf16) := fun v1 k0_t51 v228 v257 k0_hw35 k0_t54 => k0_hw35.2.2.2.1.2.2.2.2.2.2.2.2.2.2.2.2.2.1 k0_t54 (k0_off2062_inb v1 k0_t51 v228 v257 k0_hw35 k0_t54)
theorem k0_off2064_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2064 v1 k0_t51 v228 v257 k0_t54) a + S1x1x1x16x128.size a ≤ S2x2x108x128x128.size a := fun v1 k0_t51 v228 v257 k0_hw35 k0_t54 => k0_hw35.2.2.2.1.2.2.2.2.2.2.2.2.2.2.2.2.2.2.1 k0_t54
theorem k0_off2064_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2064 v1 k0_t51 v228 v257 k0_t54) S1x1x1x16x128.size (k0_off2064_inb v1 k0_t51 v228 v257 k0_hw35 k0_t54)).PackedRows (EltTy.packing .bf16) := fun v1 k0_t51 v228 v257 k0_hw35 k0_t54 => k0_hw35.2.2.2.1.2.2.2.2.2.2.2.2.2.2.2.2.2.2.2.1 k0_t54 (k0_off2064_inb v1 k0_t51 v228 v257 k0_hw35 k0_t54)
theorem k0_off2065_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2065 v1 k0_t51 v228 v257 k0_t54) a + S1x1x1x32x128.size a ≤ S2x2x8x1728x128.size a := fun v1 k0_t51 v228 v257 k0_hw35 k0_t54 => k0_hw35.2.2.2.1.2.2.2.2.2.2.2.2.2.2.2.2.2.2.2.2.1 k0_t54
theorem k0_off2067_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2067 v1 k0_t51 v228 v257 k0_t54) a + S1x1x1x16x128.size a ≤ S2x2x108x128x128.size a := fun v1 k0_t51 v228 v257 k0_hw35 k0_t54 => k0_hw35.2.2.2.1.2.2.2.2.2.2.2.2.2.2.2.2.2.2.2.2.2.1 k0_t54
theorem k0_off2067_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2067 v1 k0_t51 v228 v257 k0_t54) S1x1x1x16x128.size (k0_off2067_inb v1 k0_t51 v228 v257 k0_hw35 k0_t54)).PackedRows (EltTy.packing .bf16) := fun v1 k0_t51 v228 v257 k0_hw35 k0_t54 => k0_hw35.2.2.2.1.2.2.2.2.2.2.2.2.2.2.2.2.2.2.2.2.2.2.1 k0_t54 (k0_off2067_inb v1 k0_t51 v228 v257 k0_hw35 k0_t54)
theorem k0_off2069_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2069 v1 k0_t51 v228 v257 k0_t54) a + S1x1x1x16x128.size a ≤ S2x2x108x128x128.size a := fun v1 k0_t51 v228 v257 k0_hw35 k0_t54 => k0_hw35.2.2.2.1.2.2.2.2.2.2.2.2.2.2.2.2.2.2.2.2.2.2.2.1 k0_t54
theorem k0_off2069_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2069 v1 k0_t51 v228 v257 k0_t54) S1x1x1x16x128.size (k0_off2069_inb v1 k0_t51 v228 v257 k0_hw35 k0_t54)).PackedRows (EltTy.packing .bf16) := fun v1 k0_t51 v228 v257 k0_hw35 k0_t54 => k0_hw35.2.2.2.1.2.2.2.2.2.2.2.2.2.2.2.2.2.2.2.2.2.2.2.2.1 k0_t54 (k0_off2069_inb v1 k0_t51 v228 v257 k0_hw35 k0_t54)
theorem k0_off2070_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2070 v1 k0_t51 v228 v257 k0_t54) a + S1x1x1x32x128.size a ≤ S2x2x8x1728x128.size a := fun v1 k0_t51 v228 v257 k0_hw35 k0_t54 => k0_hw35.2.2.2.1.2.2.2.2.2.2.2.2.2.2.2.2.2.2.2.2.2.2.2.2.2.1 k0_t54
theorem k0_off2072_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2072 v1 k0_t51 v228 v257 k0_t54) a + S1x1x1x16x128.size a ≤ S2x2x108x128x128.size a := fun v1 k0_t51 v228 v257 k0_hw35 k0_t54 => k0_hw35.2.2.2.1.2.2.2.2.2.2.2.2.2.2.2.2.2.2.2.2.2.2.2.2.2.2.1 k0_t54
theorem k0_off2072_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2072 v1 k0_t51 v228 v257 k0_t54) S1x1x1x16x128.size (k0_off2072_inb v1 k0_t51 v228 v257 k0_hw35 k0_t54)).PackedRows (EltTy.packing .bf16) := fun v1 k0_t51 v228 v257 k0_hw35 k0_t54 => k0_hw35.2.2.2.1.2.2.2.2.2.2.2.2.2.2.2.2.2.2.2.2.2.2.2.2.2.2.2.1 k0_t54 (k0_off2072_inb v1 k0_t51 v228 v257 k0_hw35 k0_t54)
theorem k0_off2074_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2074 v1 k0_t51 v228 v257 k0_t54) a + S1x1x1x16x128.size a ≤ S2x2x108x128x128.size a := fun v1 k0_t51 v228 v257 k0_hw35 k0_t54 => k0_hw35.2.2.2.1.2.2.2.2.2.2.2.2.2.2.2.2.2.2.2.2.2.2.2.2.2.2.2.2.1 k0_t54
theorem k0_off2074_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2074 v1 k0_t51 v228 v257 k0_t54) S1x1x1x16x128.size (k0_off2074_inb v1 k0_t51 v228 v257 k0_hw35 k0_t54)).PackedRows (EltTy.packing .bf16) := fun v1 k0_t51 v228 v257 k0_hw35 k0_t54 => k0_hw35.2.2.2.1.2.2.2.2.2.2.2.2.2.2.2.2.2.2.2.2.2.2.2.2.2.2.2.2.2.1 k0_t54 (k0_off2074_inb v1 k0_t51 v228 v257 k0_hw35 k0_t54)
theorem k0_off2075_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2075 v1 k0_t51 v228 v257 k0_t54) a + S1x1x1x32x128.size a ≤ S2x2x8x1728x128.size a := fun v1 k0_t51 v228 v257 k0_hw35 k0_t54 => k0_hw35.2.2.2.1.2.2.2.2.2.2.2.2.2.2.2.2.2.2.2.2.2.2.2.2.2.2.2.2.2.2.1 k0_t54
theorem k0_off2077_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2077 v1 k0_t51 v228 v257 k0_t54) a + S1x1x1x16x128.size a ≤ S2x2x108x128x128.size a := fun v1 k0_t51 v228 v257 k0_hw35 k0_t54 => k0_hw35.2.2.2.1.2.2.2.2.2.2.2.2.2.2.2.2.2.2.2.2.2.2.2.2.2.2.2.2.2.2.2.1 k0_t54
theorem k0_off2077_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2077 v1 k0_t51 v228 v257 k0_t54) S1x1x1x16x128.size (k0_off2077_inb v1 k0_t51 v228 v257 k0_hw35 k0_t54)).PackedRows (EltTy.packing .bf16) := fun v1 k0_t51 v228 v257 k0_hw35 k0_t54 => k0_hw35.2.2.2.1.2.2.2.2.2.2.2.2.2.2.2.2.2.2.2.2.2.2.2.2.2.2.2.2.2.2.2.2.1 k0_t54 (k0_off2077_inb v1 k0_t51 v228 v257 k0_hw35 k0_t54)
theorem k0_off2079_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2079 v1 k0_t51 v228 v257 k0_t54) a + S1x1x1x16x128.size a ≤ S2x2x108x128x128.size a := fun v1 k0_t51 v228 v257 k0_hw35 k0_t54 => k0_hw35.2.2.2.1.2.2.2.2.2.2.2.2.2.2.2.2.2.2.2.2.2.2.2.2.2.2.2.2.2.2.2.2.2.1 k0_t54
theorem k0_off2079_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2079 v1 k0_t51 v228 v257 k0_t54) S1x1x1x16x128.size (k0_off2079_inb v1 k0_t51 v228 v257 k0_hw35 k0_t54)).PackedRows (EltTy.packing .bf16) := fun v1 k0_t51 v228 v257 k0_hw35 k0_t54 => k0_hw35.2.2.2.1.2.2.2.2.2.2.2.2.2.2.2.2.2.2.2.2.2.2.2.2.2.2.2.2.2.2.2.2.2.2.1 k0_t54 (k0_off2079_inb v1 k0_t51 v228 v257 k0_hw35 k0_t54)
theorem k0_off2080_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2080 v1 k0_t51 v228 v257 k0_t54) a + S1x1x1x32x128.size a ≤ S2x2x8x1728x128.size a := fun v1 k0_t51 v228 v257 k0_hw35 k0_t54 => k0_hw35.2.2.2.1.2.2.2.2.2.2.2.2.2.2.2.2.2.2.2.2.2.2.2.2.2.2.2.2.2.2.2.2.2.2.2 k0_t54
theorem k0_off2082_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2082 v1 k0_t51 v228 v257 k0_t54) a + S1x1x1x16x128.size a ≤ S2x2x108x128x128.size a := fun v1 k0_t51 v228 v257 k0_hw35 k0_t54 => k0_hw35.2.2.2.2.1.1 k0_t54
theorem k0_off2082_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2082 v1 k0_t51 v228 v257 k0_t54) S1x1x1x16x128.size (k0_off2082_inb v1 k0_t51 v228 v257 k0_hw35 k0_t54)).PackedRows (EltTy.packing .bf16) := fun v1 k0_t51 v228 v257 k0_hw35 k0_t54 => k0_hw35.2.2.2.2.1.2.1 k0_t54 (k0_off2082_inb v1 k0_t51 v228 v257 k0_hw35 k0_t54)
theorem k0_off2084_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2084 v1 k0_t51 v228 v257 k0_t54) a + S1x1x1x16x128.size a ≤ S2x2x108x128x128.size a := fun v1 k0_t51 v228 v257 k0_hw35 k0_t54 => k0_hw35.2.2.2.2.1.2.2.1 k0_t54
theorem k0_off2084_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2084 v1 k0_t51 v228 v257 k0_t54) S1x1x1x16x128.size (k0_off2084_inb v1 k0_t51 v228 v257 k0_hw35 k0_t54)).PackedRows (EltTy.packing .bf16) := fun v1 k0_t51 v228 v257 k0_hw35 k0_t54 => k0_hw35.2.2.2.2.1.2.2.2.1 k0_t54 (k0_off2084_inb v1 k0_t51 v228 v257 k0_hw35 k0_t54)
theorem k0_off2085_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2085 v1 k0_t51 v228 v257 k0_t54) a + S1x1x1x32x128.size a ≤ S2x2x8x1728x128.size a := fun v1 k0_t51 v228 v257 k0_hw35 k0_t54 => k0_hw35.2.2.2.2.1.2.2.2.2.1 k0_t54
theorem k0_off2087_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2087 v1 k0_t51 v228 v257 k0_t54) a + S1x1x1x16x128.size a ≤ S2x2x108x128x128.size a := fun v1 k0_t51 v228 v257 k0_hw35 k0_t54 => k0_hw35.2.2.2.2.1.2.2.2.2.2.1 k0_t54
theorem k0_off2087_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2087 v1 k0_t51 v228 v257 k0_t54) S1x1x1x16x128.size (k0_off2087_inb v1 k0_t51 v228 v257 k0_hw35 k0_t54)).PackedRows (EltTy.packing .bf16) := fun v1 k0_t51 v228 v257 k0_hw35 k0_t54 => k0_hw35.2.2.2.2.1.2.2.2.2.2.2.1 k0_t54 (k0_off2087_inb v1 k0_t51 v228 v257 k0_hw35 k0_t54)
theorem k0_off2089_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2089 v1 k0_t51 v228 v257 k0_t54) a + S1x1x1x16x128.size a ≤ S2x2x108x128x128.size a := fun v1 k0_t51 v228 v257 k0_hw35 k0_t54 => k0_hw35.2.2.2.2.1.2.2.2.2.2.2.2.1 k0_t54
theorem k0_off2089_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2089 v1 k0_t51 v228 v257 k0_t54) S1x1x1x16x128.size (k0_off2089_inb v1 k0_t51 v228 v257 k0_hw35 k0_t54)).PackedRows (EltTy.packing .bf16) := fun v1 k0_t51 v228 v257 k0_hw35 k0_t54 => k0_hw35.2.2.2.2.1.2.2.2.2.2.2.2.2.1 k0_t54 (k0_off2089_inb v1 k0_t51 v228 v257 k0_hw35 k0_t54)
theorem k0_off2090_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2090 v1 k0_t51 v228 v257 k0_t54) a + S1x1x1x32x128.size a ≤ S2x2x8x1728x128.size a := fun v1 k0_t51 v228 v257 k0_hw35 k0_t54 => k0_hw35.2.2.2.2.1.2.2.2.2.2.2.2.2.2.1 k0_t54
theorem k0_off2092_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2092 v1 k0_t51 v228 v257 k0_t54) a + S1x1x1x16x128.size a ≤ S2x2x108x128x128.size a := fun v1 k0_t51 v228 v257 k0_hw35 k0_t54 => k0_hw35.2.2.2.2.1.2.2.2.2.2.2.2.2.2.2.1 k0_t54
theorem k0_off2092_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2092 v1 k0_t51 v228 v257 k0_t54) S1x1x1x16x128.size (k0_off2092_inb v1 k0_t51 v228 v257 k0_hw35 k0_t54)).PackedRows (EltTy.packing .bf16) := fun v1 k0_t51 v228 v257 k0_hw35 k0_t54 => k0_hw35.2.2.2.2.1.2.2.2.2.2.2.2.2.2.2.2.1 k0_t54 (k0_off2092_inb v1 k0_t51 v228 v257 k0_hw35 k0_t54)
theorem k0_off2094_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2094 v1 k0_t51 v228 v257 k0_t54) a + S1x1x1x16x128.size a ≤ S2x2x108x128x128.size a := fun v1 k0_t51 v228 v257 k0_hw35 k0_t54 => k0_hw35.2.2.2.2.1.2.2.2.2.2.2.2.2.2.2.2.2.1 k0_t54
theorem k0_off2094_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2094 v1 k0_t51 v228 v257 k0_t54) S1x1x1x16x128.size (k0_off2094_inb v1 k0_t51 v228 v257 k0_hw35 k0_t54)).PackedRows (EltTy.packing .bf16) := fun v1 k0_t51 v228 v257 k0_hw35 k0_t54 => k0_hw35.2.2.2.2.1.2.2.2.2.2.2.2.2.2.2.2.2.2.1 k0_t54 (k0_off2094_inb v1 k0_t51 v228 v257 k0_hw35 k0_t54)
theorem k0_off2095_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2095 v1 k0_t51 v228 v257 k0_t54) a + S1x1x1x32x128.size a ≤ S2x2x8x1728x128.size a := fun v1 k0_t51 v228 v257 k0_hw35 k0_t54 => k0_hw35.2.2.2.2.1.2.2.2.2.2.2.2.2.2.2.2.2.2.2.1 k0_t54
theorem k0_off2097_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2097 v1 k0_t51 v228 v257 k0_t54) a + S1x1x1x16x128.size a ≤ S2x2x108x128x128.size a := fun v1 k0_t51 v228 v257 k0_hw35 k0_t54 => k0_hw35.2.2.2.2.1.2.2.2.2.2.2.2.2.2.2.2.2.2.2.2.1 k0_t54
theorem k0_off2097_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2097 v1 k0_t51 v228 v257 k0_t54) S1x1x1x16x128.size (k0_off2097_inb v1 k0_t51 v228 v257 k0_hw35 k0_t54)).PackedRows (EltTy.packing .bf16) := fun v1 k0_t51 v228 v257 k0_hw35 k0_t54 => k0_hw35.2.2.2.2.1.2.2.2.2.2.2.2.2.2.2.2.2.2.2.2.2.1 k0_t54 (k0_off2097_inb v1 k0_t51 v228 v257 k0_hw35 k0_t54)
theorem k0_off2099_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2099 v1 k0_t51 v228 v257 k0_t54) a + S1x1x1x16x128.size a ≤ S2x2x108x128x128.size a := fun v1 k0_t51 v228 v257 k0_hw35 k0_t54 => k0_hw35.2.2.2.2.1.2.2.2.2.2.2.2.2.2.2.2.2.2.2.2.2.2.1 k0_t54
theorem k0_off2099_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2099 v1 k0_t51 v228 v257 k0_t54) S1x1x1x16x128.size (k0_off2099_inb v1 k0_t51 v228 v257 k0_hw35 k0_t54)).PackedRows (EltTy.packing .bf16) := fun v1 k0_t51 v228 v257 k0_hw35 k0_t54 => k0_hw35.2.2.2.2.1.2.2.2.2.2.2.2.2.2.2.2.2.2.2.2.2.2.2.1 k0_t54 (k0_off2099_inb v1 k0_t51 v228 v257 k0_hw35 k0_t54)
theorem k0_off2100_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2100 v1 k0_t51 v228 v257 k0_t54) a + S1x1x1x32x128.size a ≤ S2x2x8x1728x128.size a := fun v1 k0_t51 v228 v257 k0_hw35 k0_t54 => k0_hw35.2.2.2.2.1.2.2.2.2.2.2.2.2.2.2.2.2.2.2.2.2.2.2.2.1 k0_t54
theorem k0_off2102_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2102 v1 k0_t51 v228 v257 k0_t54) a + S1x1x1x16x128.size a ≤ S2x2x108x128x128.size a := fun v1 k0_t51 v228 v257 k0_hw35 k0_t54 => k0_hw35.2.2.2.2.1.2.2.2.2.2.2.2.2.2.2.2.2.2.2.2.2.2.2.2.2.1 k0_t54
theorem k0_off2102_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2102 v1 k0_t51 v228 v257 k0_t54) S1x1x1x16x128.size (k0_off2102_inb v1 k0_t51 v228 v257 k0_hw35 k0_t54)).PackedRows (EltTy.packing .bf16) := fun v1 k0_t51 v228 v257 k0_hw35 k0_t54 => k0_hw35.2.2.2.2.1.2.2.2.2.2.2.2.2.2.2.2.2.2.2.2.2.2.2.2.2.2.1 k0_t54 (k0_off2102_inb v1 k0_t51 v228 v257 k0_hw35 k0_t54)
theorem k0_off2104_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2104 v1 k0_t51 v228 v257 k0_t54) a + S1x1x1x16x128.size a ≤ S2x2x108x128x128.size a := fun v1 k0_t51 v228 v257 k0_hw35 k0_t54 => k0_hw35.2.2.2.2.1.2.2.2.2.2.2.2.2.2.2.2.2.2.2.2.2.2.2.2.2.2.2.1 k0_t54
theorem k0_off2104_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2104 v1 k0_t51 v228 v257 k0_t54) S1x1x1x16x128.size (k0_off2104_inb v1 k0_t51 v228 v257 k0_hw35 k0_t54)).PackedRows (EltTy.packing .bf16) := fun v1 k0_t51 v228 v257 k0_hw35 k0_t54 => k0_hw35.2.2.2.2.1.2.2.2.2.2.2.2.2.2.2.2.2.2.2.2.2.2.2.2.2.2.2.2.1 k0_t54 (k0_off2104_inb v1 k0_t51 v228 v257 k0_hw35 k0_t54)
theorem k0_off2105_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2105 v1 k0_t51 v228 v257 k0_t54) a + S1x1x1x32x128.size a ≤ S2x2x8x1728x128.size a := fun v1 k0_t51 v228 v257 k0_hw35 k0_t54 => k0_hw35.2.2.2.2.1.2.2.2.2.2.2.2.2.2.2.2.2.2.2.2.2.2.2.2.2.2.2.2.2.1 k0_t54
theorem k0_off2107_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2107 v1 k0_t51 v228 v257 k0_t54) a + S1x1x1x16x128.size a ≤ S2x2x108x128x128.size a := fun v1 k0_t51 v228 v257 k0_hw35 k0_t54 => k0_hw35.2.2.2.2.1.2.2.2.2.2.2.2.2.2.2.2.2.2.2.2.2.2.2.2.2.2.2.2.2.2.1 k0_t54
theorem k0_off2107_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2107 v1 k0_t51 v228 v257 k0_t54) S1x1x1x16x128.size (k0_off2107_inb v1 k0_t51 v228 v257 k0_hw35 k0_t54)).PackedRows (EltTy.packing .bf16) := fun v1 k0_t51 v228 v257 k0_hw35 k0_t54 => k0_hw35.2.2.2.2.1.2.2.2.2.2.2.2.2.2.2.2.2.2.2.2.2.2.2.2.2.2.2.2.2.2.2.1 k0_t54 (k0_off2107_inb v1 k0_t51 v228 v257 k0_hw35 k0_t54)
theorem k0_off2109_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2109 v1 k0_t51 v228 v257 k0_t54) a + S1x1x1x16x128.size a ≤ S2x2x108x128x128.size a := fun v1 k0_t51 v228 v257 k0_hw35 k0_t54 => k0_hw35.2.2.2.2.1.2.2.2.2.2.2.2.2.2.2.2.2.2.2.2.2.2.2.2.2.2.2.2.2.2.2.2.1 k0_t54
theorem k0_off2109_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2109 v1 k0_t51 v228 v257 k0_t54) S1x1x1x16x128.size (k0_off2109_inb v1 k0_t51 v228 v257 k0_hw35 k0_t54)).PackedRows (EltTy.packing .bf16) := fun v1 k0_t51 v228 v257 k0_hw35 k0_t54 => k0_hw35.2.2.2.2.1.2.2.2.2.2.2.2.2.2.2.2.2.2.2.2.2.2.2.2.2.2.2.2.2.2.2.2.2.1 k0_t54 (k0_off2109_inb v1 k0_t51 v228 v257 k0_hw35 k0_t54)
theorem k0_off2110_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2110 v1 k0_t51 v228 v257 k0_t54) a + S1x1x1x32x128.size a ≤ S2x2x8x1728x128.size a := fun v1 k0_t51 v228 v257 k0_hw35 k0_t54 => k0_hw35.2.2.2.2.1.2.2.2.2.2.2.2.2.2.2.2.2.2.2.2.2.2.2.2.2.2.2.2.2.2.2.2.2.2.1 k0_t54
theorem k0_off2112_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2112 v1 k0_t51 v228 v257 k0_t54) a + S1x1x1x16x128.size a ≤ S2x2x108x128x128.size a := fun v1 k0_t51 v228 v257 k0_hw35 k0_t54 => k0_hw35.2.2.2.2.1.2.2.2.2.2.2.2.2.2.2.2.2.2.2.2.2.2.2.2.2.2.2.2.2.2.2.2.2.2.2.1 k0_t54
theorem k0_off2112_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2112 v1 k0_t51 v228 v257 k0_t54) S1x1x1x16x128.size (k0_off2112_inb v1 k0_t51 v228 v257 k0_hw35 k0_t54)).PackedRows (EltTy.packing .bf16) := fun v1 k0_t51 v228 v257 k0_hw35 k0_t54 => k0_hw35.2.2.2.2.1.2.2.2.2.2.2.2.2.2.2.2.2.2.2.2.2.2.2.2.2.2.2.2.2.2.2.2.2.2.2.2 k0_t54 (k0_off2112_inb v1 k0_t51 v228 v257 k0_hw35 k0_t54)
theorem k0_off2114_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2114 v1 k0_t51 v228 v257 k0_t54) a + S1x1x1x16x128.size a ≤ S2x2x108x128x128.size a := fun v1 k0_t51 v228 v257 k0_hw35 k0_t54 => k0_hw35.2.2.2.2.2.1.1 k0_t54
theorem k0_off2114_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2114 v1 k0_t51 v228 v257 k0_t54) S1x1x1x16x128.size (k0_off2114_inb v1 k0_t51 v228 v257 k0_hw35 k0_t54)).PackedRows (EltTy.packing .bf16) := fun v1 k0_t51 v228 v257 k0_hw35 k0_t54 => k0_hw35.2.2.2.2.2.1.2.1 k0_t54 (k0_off2114_inb v1 k0_t51 v228 v257 k0_hw35 k0_t54)
theorem k0_off2115_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2115 v1 k0_t51 v228 v257 k0_t54) a + S1x1x1x32x128.size a ≤ S2x2x8x1728x128.size a := fun v1 k0_t51 v228 v257 k0_hw35 k0_t54 => k0_hw35.2.2.2.2.2.1.2.2.1 k0_t54
theorem k0_off2117_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2117 v1 k0_t51 v228 v257 k0_t54) a + S1x1x1x16x128.size a ≤ S2x2x108x128x128.size a := fun v1 k0_t51 v228 v257 k0_hw35 k0_t54 => k0_hw35.2.2.2.2.2.1.2.2.2.1 k0_t54
theorem k0_off2117_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2117 v1 k0_t51 v228 v257 k0_t54) S1x1x1x16x128.size (k0_off2117_inb v1 k0_t51 v228 v257 k0_hw35 k0_t54)).PackedRows (EltTy.packing .bf16) := fun v1 k0_t51 v228 v257 k0_hw35 k0_t54 => k0_hw35.2.2.2.2.2.1.2.2.2.2.1 k0_t54 (k0_off2117_inb v1 k0_t51 v228 v257 k0_hw35 k0_t54)
theorem k0_off2119_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2119 v1 k0_t51 v228 v257 k0_t54) a + S1x1x1x16x128.size a ≤ S2x2x108x128x128.size a := fun v1 k0_t51 v228 v257 k0_hw35 k0_t54 => k0_hw35.2.2.2.2.2.1.2.2.2.2.2.1 k0_t54
theorem k0_off2119_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2119 v1 k0_t51 v228 v257 k0_t54) S1x1x1x16x128.size (k0_off2119_inb v1 k0_t51 v228 v257 k0_hw35 k0_t54)).PackedRows (EltTy.packing .bf16) := fun v1 k0_t51 v228 v257 k0_hw35 k0_t54 => k0_hw35.2.2.2.2.2.1.2.2.2.2.2.2.1 k0_t54 (k0_off2119_inb v1 k0_t51 v228 v257 k0_hw35 k0_t54)
theorem k0_off2120_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2120 v1 k0_t51 v228 v257 k0_t54) a + S1x1x1x32x128.size a ≤ S2x2x8x1728x128.size a := fun v1 k0_t51 v228 v257 k0_hw35 k0_t54 => k0_hw35.2.2.2.2.2.1.2.2.2.2.2.2.2.1 k0_t54
theorem k0_off2122_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2122 v1 k0_t51 v228 v257 k0_t54) a + S1x1x1x16x128.size a ≤ S2x2x108x128x128.size a := fun v1 k0_t51 v228 v257 k0_hw35 k0_t54 => k0_hw35.2.2.2.2.2.1.2.2.2.2.2.2.2.2.1 k0_t54
theorem k0_off2122_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2122 v1 k0_t51 v228 v257 k0_t54) S1x1x1x16x128.size (k0_off2122_inb v1 k0_t51 v228 v257 k0_hw35 k0_t54)).PackedRows (EltTy.packing .bf16) := fun v1 k0_t51 v228 v257 k0_hw35 k0_t54 => k0_hw35.2.2.2.2.2.1.2.2.2.2.2.2.2.2.2.1 k0_t54 (k0_off2122_inb v1 k0_t51 v228 v257 k0_hw35 k0_t54)
theorem k0_off2124_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2124 v1 k0_t51 v228 v257 k0_t54) a + S1x1x1x16x128.size a ≤ S2x2x108x128x128.size a := fun v1 k0_t51 v228 v257 k0_hw35 k0_t54 => k0_hw35.2.2.2.2.2.1.2.2.2.2.2.2.2.2.2.2.1 k0_t54
theorem k0_off2124_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2124 v1 k0_t51 v228 v257 k0_t54) S1x1x1x16x128.size (k0_off2124_inb v1 k0_t51 v228 v257 k0_hw35 k0_t54)).PackedRows (EltTy.packing .bf16) := fun v1 k0_t51 v228 v257 k0_hw35 k0_t54 => k0_hw35.2.2.2.2.2.1.2.2.2.2.2.2.2.2.2.2.2.1 k0_t54 (k0_off2124_inb v1 k0_t51 v228 v257 k0_hw35 k0_t54)
theorem k0_off2125_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2125 v1 k0_t51 v228 v257 k0_t54) a + S1x1x1x32x128.size a ≤ S2x2x8x1728x128.size a := fun v1 k0_t51 v228 v257 k0_hw35 k0_t54 => k0_hw35.2.2.2.2.2.1.2.2.2.2.2.2.2.2.2.2.2.2.1 k0_t54
theorem k0_off2127_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2127 v1 k0_t51 v228 v257 k0_t54) a + S1x1x1x16x128.size a ≤ S2x2x108x128x128.size a := fun v1 k0_t51 v228 v257 k0_hw35 k0_t54 => k0_hw35.2.2.2.2.2.1.2.2.2.2.2.2.2.2.2.2.2.2.2.1 k0_t54
theorem k0_off2127_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2127 v1 k0_t51 v228 v257 k0_t54) S1x1x1x16x128.size (k0_off2127_inb v1 k0_t51 v228 v257 k0_hw35 k0_t54)).PackedRows (EltTy.packing .bf16) := fun v1 k0_t51 v228 v257 k0_hw35 k0_t54 => k0_hw35.2.2.2.2.2.1.2.2.2.2.2.2.2.2.2.2.2.2.2.2.1 k0_t54 (k0_off2127_inb v1 k0_t51 v228 v257 k0_hw35 k0_t54)
theorem k0_off2129_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2129 v1 k0_t51 v228 v257 k0_t54) a + S1x1x1x16x128.size a ≤ S2x2x108x128x128.size a := fun v1 k0_t51 v228 v257 k0_hw35 k0_t54 => k0_hw35.2.2.2.2.2.1.2.2.2.2.2.2.2.2.2.2.2.2.2.2.2.1 k0_t54
theorem k0_off2129_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2129 v1 k0_t51 v228 v257 k0_t54) S1x1x1x16x128.size (k0_off2129_inb v1 k0_t51 v228 v257 k0_hw35 k0_t54)).PackedRows (EltTy.packing .bf16) := fun v1 k0_t51 v228 v257 k0_hw35 k0_t54 => k0_hw35.2.2.2.2.2.1.2.2.2.2.2.2.2.2.2.2.2.2.2.2.2.2.1 k0_t54 (k0_off2129_inb v1 k0_t51 v228 v257 k0_hw35 k0_t54)
theorem k0_off2130_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2130 v1 k0_t51 v228 v257 k0_t54) a + S1x1x1x32x128.size a ≤ S2x2x8x1728x128.size a := fun v1 k0_t51 v228 v257 k0_hw35 k0_t54 => k0_hw35.2.2.2.2.2.1.2.2.2.2.2.2.2.2.2.2.2.2.2.2.2.2.2.1 k0_t54
theorem k0_off2132_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2132 v1 k0_t51 v228 v257 k0_t54) a + S1x1x1x16x128.size a ≤ S2x2x108x128x128.size a := fun v1 k0_t51 v228 v257 k0_hw35 k0_t54 => k0_hw35.2.2.2.2.2.1.2.2.2.2.2.2.2.2.2.2.2.2.2.2.2.2.2.2.1 k0_t54
theorem k0_off2132_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2132 v1 k0_t51 v228 v257 k0_t54) S1x1x1x16x128.size (k0_off2132_inb v1 k0_t51 v228 v257 k0_hw35 k0_t54)).PackedRows (EltTy.packing .bf16) := fun v1 k0_t51 v228 v257 k0_hw35 k0_t54 => k0_hw35.2.2.2.2.2.1.2.2.2.2.2.2.2.2.2.2.2.2.2.2.2.2.2.2.2.1 k0_t54 (k0_off2132_inb v1 k0_t51 v228 v257 k0_hw35 k0_t54)
theorem k0_off2134_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2134 v1 k0_t51 v228 v257 k0_t54) a + S1x1x1x16x128.size a ≤ S2x2x108x128x128.size a := fun v1 k0_t51 v228 v257 k0_hw35 k0_t54 => k0_hw35.2.2.2.2.2.1.2.2.2.2.2.2.2.2.2.2.2.2.2.2.2.2.2.2.2.2.1 k0_t54
theorem k0_off2134_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2134 v1 k0_t51 v228 v257 k0_t54) S1x1x1x16x128.size (k0_off2134_inb v1 k0_t51 v228 v257 k0_hw35 k0_t54)).PackedRows (EltTy.packing .bf16) := fun v1 k0_t51 v228 v257 k0_hw35 k0_t54 => k0_hw35.2.2.2.2.2.1.2.2.2.2.2.2.2.2.2.2.2.2.2.2.2.2.2.2.2.2.2.1 k0_t54 (k0_off2134_inb v1 k0_t51 v228 v257 k0_hw35 k0_t54)
theorem k0_off2135_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2135 v1 k0_t51 v228 v257 k0_t54) a + S1x1x1x32x128.size a ≤ S2x2x8x1728x128.size a := fun v1 k0_t51 v228 v257 k0_hw35 k0_t54 => k0_hw35.2.2.2.2.2.1.2.2.2.2.2.2.2.2.2.2.2.2.2.2.2.2.2.2.2.2.2.2.1 k0_t54
theorem k0_off2137_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2137 v1 k0_t51 v228 v257 k0_t54) a + S1x1x1x16x128.size a ≤ S2x2x108x128x128.size a := fun v1 k0_t51 v228 v257 k0_hw35 k0_t54 => k0_hw35.2.2.2.2.2.1.2.2.2.2.2.2.2.2.2.2.2.2.2.2.2.2.2.2.2.2.2.2.2.1 k0_t54
theorem k0_off2137_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2137 v1 k0_t51 v228 v257 k0_t54) S1x1x1x16x128.size (k0_off2137_inb v1 k0_t51 v228 v257 k0_hw35 k0_t54)).PackedRows (EltTy.packing .bf16) := fun v1 k0_t51 v228 v257 k0_hw35 k0_t54 => k0_hw35.2.2.2.2.2.1.2.2.2.2.2.2.2.2.2.2.2.2.2.2.2.2.2.2.2.2.2.2.2.2.1 k0_t54 (k0_off2137_inb v1 k0_t51 v228 v257 k0_hw35 k0_t54)
theorem k0_off2139_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2139 v1 k0_t51 v228 v257 k0_t54) a + S1x1x1x16x128.size a ≤ S2x2x108x128x128.size a := fun v1 k0_t51 v228 v257 k0_hw35 k0_t54 => k0_hw35.2.2.2.2.2.1.2.2.2.2.2.2.2.2.2.2.2.2.2.2.2.2.2.2.2.2.2.2.2.2.2.1 k0_t54
theorem k0_off2139_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2139 v1 k0_t51 v228 v257 k0_t54) S1x1x1x16x128.size (k0_off2139_inb v1 k0_t51 v228 v257 k0_hw35 k0_t54)).PackedRows (EltTy.packing .bf16) := fun v1 k0_t51 v228 v257 k0_hw35 k0_t54 => k0_hw35.2.2.2.2.2.1.2.2.2.2.2.2.2.2.2.2.2.2.2.2.2.2.2.2.2.2.2.2.2.2.2.2.1 k0_t54 (k0_off2139_inb v1 k0_t51 v228 v257 k0_hw35 k0_t54)
theorem k0_off2140_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2140 v1 k0_t51 v228 v257 k0_t54) a + S1x1x1x32x128.size a ≤ S2x2x8x1728x128.size a := fun v1 k0_t51 v228 v257 k0_hw35 k0_t54 => k0_hw35.2.2.2.2.2.1.2.2.2.2.2.2.2.2.2.2.2.2.2.2.2.2.2.2.2.2.2.2.2.2.2.2.2.1 k0_t54
theorem k0_off2142_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2142 v1 k0_t51 v228 v257 k0_t54) a + S1x1x1x16x128.size a ≤ S2x2x108x128x128.size a := fun v1 k0_t51 v228 v257 k0_hw35 k0_t54 => k0_hw35.2.2.2.2.2.1.2.2.2.2.2.2.2.2.2.2.2.2.2.2.2.2.2.2.2.2.2.2.2.2.2.2.2.2.1 k0_t54
theorem k0_off2142_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2142 v1 k0_t51 v228 v257 k0_t54) S1x1x1x16x128.size (k0_off2142_inb v1 k0_t51 v228 v257 k0_hw35 k0_t54)).PackedRows (EltTy.packing .bf16) := fun v1 k0_t51 v228 v257 k0_hw35 k0_t54 => k0_hw35.2.2.2.2.2.1.2.2.2.2.2.2.2.2.2.2.2.2.2.2.2.2.2.2.2.2.2.2.2.2.2.2.2.2.2.1 k0_t54 (k0_off2142_inb v1 k0_t51 v228 v257 k0_hw35 k0_t54)
theorem k0_off2144_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2144 v1 k0_t51 v228 v257 k0_t54) a + S1x1x1x16x128.size a ≤ S2x2x108x128x128.size a := fun v1 k0_t51 v228 v257 k0_hw35 k0_t54 => k0_hw35.2.2.2.2.2.1.2.2.2.2.2.2.2.2.2.2.2.2.2.2.2.2.2.2.2.2.2.2.2.2.2.2.2.2.2.2.1 k0_t54
theorem k0_off2144_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2144 v1 k0_t51 v228 v257 k0_t54) S1x1x1x16x128.size (k0_off2144_inb v1 k0_t51 v228 v257 k0_hw35 k0_t54)).PackedRows (EltTy.packing .bf16) := fun v1 k0_t51 v228 v257 k0_hw35 k0_t54 => k0_hw35.2.2.2.2.2.1.2.2.2.2.2.2.2.2.2.2.2.2.2.2.2.2.2.2.2.2.2.2.2.2.2.2.2.2.2.2.2 k0_t54 (k0_off2144_inb v1 k0_t51 v228 v257 k0_hw35 k0_t54)
theorem k0_off2145_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2145 v1 k0_t51 v228 v257 k0_t54) a + S1x1x1x32x128.size a ≤ S2x2x8x1728x128.size a := fun v1 k0_t51 v228 v257 k0_hw35 k0_t54 => k0_hw35.2.2.2.2.2.2.1.1 k0_t54
theorem k0_off2147_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2147 v1 k0_t51 v228 v257 k0_t54) a + S1x1x1x16x128.size a ≤ S2x2x108x128x128.size a := fun v1 k0_t51 v228 v257 k0_hw35 k0_t54 => k0_hw35.2.2.2.2.2.2.1.2.1 k0_t54
theorem k0_off2147_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2147 v1 k0_t51 v228 v257 k0_t54) S1x1x1x16x128.size (k0_off2147_inb v1 k0_t51 v228 v257 k0_hw35 k0_t54)).PackedRows (EltTy.packing .bf16) := fun v1 k0_t51 v228 v257 k0_hw35 k0_t54 => k0_hw35.2.2.2.2.2.2.1.2.2.1 k0_t54 (k0_off2147_inb v1 k0_t51 v228 v257 k0_hw35 k0_t54)
theorem k0_off2149_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2149 v1 k0_t51 v228 v257 k0_t54) a + S1x1x1x16x128.size a ≤ S2x2x108x128x128.size a := fun v1 k0_t51 v228 v257 k0_hw35 k0_t54 => k0_hw35.2.2.2.2.2.2.1.2.2.2.1 k0_t54
theorem k0_off2149_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2149 v1 k0_t51 v228 v257 k0_t54) S1x1x1x16x128.size (k0_off2149_inb v1 k0_t51 v228 v257 k0_hw35 k0_t54)).PackedRows (EltTy.packing .bf16) := fun v1 k0_t51 v228 v257 k0_hw35 k0_t54 => k0_hw35.2.2.2.2.2.2.1.2.2.2.2.1 k0_t54 (k0_off2149_inb v1 k0_t51 v228 v257 k0_hw35 k0_t54)
theorem k0_off2150_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2150 v1 k0_t51 v228 v257 k0_t54) a + S1x1x1x32x128.size a ≤ S2x2x8x1728x128.size a := fun v1 k0_t51 v228 v257 k0_hw35 k0_t54 => k0_hw35.2.2.2.2.2.2.1.2.2.2.2.2.1 k0_t54
theorem k0_off2152_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2152 v1 k0_t51 v228 v257 k0_t54) a + S1x1x1x16x128.size a ≤ S2x2x108x128x128.size a := fun v1 k0_t51 v228 v257 k0_hw35 k0_t54 => k0_hw35.2.2.2.2.2.2.1.2.2.2.2.2.2.1 k0_t54
theorem k0_off2152_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2152 v1 k0_t51 v228 v257 k0_t54) S1x1x1x16x128.size (k0_off2152_inb v1 k0_t51 v228 v257 k0_hw35 k0_t54)).PackedRows (EltTy.packing .bf16) := fun v1 k0_t51 v228 v257 k0_hw35 k0_t54 => k0_hw35.2.2.2.2.2.2.1.2.2.2.2.2.2.2.1 k0_t54 (k0_off2152_inb v1 k0_t51 v228 v257 k0_hw35 k0_t54)
theorem k0_off2154_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2154 v1 k0_t51 v228 v257 k0_t54) a + S1x1x1x16x128.size a ≤ S2x2x108x128x128.size a := fun v1 k0_t51 v228 v257 k0_hw35 k0_t54 => k0_hw35.2.2.2.2.2.2.1.2.2.2.2.2.2.2.2.1 k0_t54
theorem k0_off2154_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2154 v1 k0_t51 v228 v257 k0_t54) S1x1x1x16x128.size (k0_off2154_inb v1 k0_t51 v228 v257 k0_hw35 k0_t54)).PackedRows (EltTy.packing .bf16) := fun v1 k0_t51 v228 v257 k0_hw35 k0_t54 => k0_hw35.2.2.2.2.2.2.1.2.2.2.2.2.2.2.2.2.1 k0_t54 (k0_off2154_inb v1 k0_t51 v228 v257 k0_hw35 k0_t54)
theorem k0_off2155_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2155 v1 k0_t51 v228 v257 k0_t54) a + S1x1x1x32x128.size a ≤ S2x2x8x1728x128.size a := fun v1 k0_t51 v228 v257 k0_hw35 k0_t54 => k0_hw35.2.2.2.2.2.2.1.2.2.2.2.2.2.2.2.2.2.1 k0_t54
theorem k0_off2157_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2157 v1 k0_t51 v228 v257 k0_t54) a + S1x1x1x16x128.size a ≤ S2x2x108x128x128.size a := fun v1 k0_t51 v228 v257 k0_hw35 k0_t54 => k0_hw35.2.2.2.2.2.2.1.2.2.2.2.2.2.2.2.2.2.2.1 k0_t54
theorem k0_off2157_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2157 v1 k0_t51 v228 v257 k0_t54) S1x1x1x16x128.size (k0_off2157_inb v1 k0_t51 v228 v257 k0_hw35 k0_t54)).PackedRows (EltTy.packing .bf16) := fun v1 k0_t51 v228 v257 k0_hw35 k0_t54 => k0_hw35.2.2.2.2.2.2.1.2.2.2.2.2.2.2.2.2.2.2.2.1 k0_t54 (k0_off2157_inb v1 k0_t51 v228 v257 k0_hw35 k0_t54)
theorem k0_off2159_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2159 v1 k0_t51 v228 v257 k0_t54) a + S1x1x1x16x128.size a ≤ S2x2x108x128x128.size a := fun v1 k0_t51 v228 v257 k0_hw35 k0_t54 => k0_hw35.2.2.2.2.2.2.1.2.2.2.2.2.2.2.2.2.2.2.2.2.1 k0_t54
theorem k0_off2159_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2159 v1 k0_t51 v228 v257 k0_t54) S1x1x1x16x128.size (k0_off2159_inb v1 k0_t51 v228 v257 k0_hw35 k0_t54)).PackedRows (EltTy.packing .bf16) := fun v1 k0_t51 v228 v257 k0_hw35 k0_t54 => k0_hw35.2.2.2.2.2.2.1.2.2.2.2.2.2.2.2.2.2.2.2.2.2.1 k0_t54 (k0_off2159_inb v1 k0_t51 v228 v257 k0_hw35 k0_t54)
theorem k0_off2160_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2160 v1 k0_t51 v228 v257 k0_t54) a + S1x1x1x32x128.size a ≤ S2x2x8x1728x128.size a := fun v1 k0_t51 v228 v257 k0_hw35 k0_t54 => k0_hw35.2.2.2.2.2.2.1.2.2.2.2.2.2.2.2.2.2.2.2.2.2.2.1 k0_t54
theorem k0_off2162_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2162 v1 k0_t51 v228 v257 k0_t54) a + S1x1x1x16x128.size a ≤ S2x2x108x128x128.size a := fun v1 k0_t51 v228 v257 k0_hw35 k0_t54 => k0_hw35.2.2.2.2.2.2.1.2.2.2.2.2.2.2.2.2.2.2.2.2.2.2.2.1 k0_t54
theorem k0_off2162_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2162 v1 k0_t51 v228 v257 k0_t54) S1x1x1x16x128.size (k0_off2162_inb v1 k0_t51 v228 v257 k0_hw35 k0_t54)).PackedRows (EltTy.packing .bf16) := fun v1 k0_t51 v228 v257 k0_hw35 k0_t54 => k0_hw35.2.2.2.2.2.2.1.2.2.2.2.2.2.2.2.2.2.2.2.2.2.2.2.2.1 k0_t54 (k0_off2162_inb v1 k0_t51 v228 v257 k0_hw35 k0_t54)
theorem k0_off2164_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2164 v1 k0_t51 v228 v257 k0_t54) a + S1x1x1x16x128.size a ≤ S2x2x108x128x128.size a := fun v1 k0_t51 v228 v257 k0_hw35 k0_t54 => k0_hw35.2.2.2.2.2.2.1.2.2.2.2.2.2.2.2.2.2.2.2.2.2.2.2.2.2.1 k0_t54
theorem k0_off2164_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2164 v1 k0_t51 v228 v257 k0_t54) S1x1x1x16x128.size (k0_off2164_inb v1 k0_t51 v228 v257 k0_hw35 k0_t54)).PackedRows (EltTy.packing .bf16) := fun v1 k0_t51 v228 v257 k0_hw35 k0_t54 => k0_hw35.2.2.2.2.2.2.1.2.2.2.2.2.2.2.2.2.2.2.2.2.2.2.2.2.2.2.1 k0_t54 (k0_off2164_inb v1 k0_t51 v228 v257 k0_hw35 k0_t54)
theorem k0_off2165_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2165 v1 k0_t51 v228 v257 k0_t54) a + S1x1x1x32x128.size a ≤ S2x2x8x1728x128.size a := fun v1 k0_t51 v228 v257 k0_hw35 k0_t54 => k0_hw35.2.2.2.2.2.2.1.2.2.2.2.2.2.2.2.2.2.2.2.2.2.2.2.2.2.2.2.1 k0_t54
theorem k0_off2167_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2167 v1 k0_t51 v228 v257 k0_t54) a + S1x1x1x16x128.size a ≤ S2x2x108x128x128.size a := fun v1 k0_t51 v228 v257 k0_hw35 k0_t54 => k0_hw35.2.2.2.2.2.2.1.2.2.2.2.2.2.2.2.2.2.2.2.2.2.2.2.2.2.2.2.2.1 k0_t54
theorem k0_off2167_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2167 v1 k0_t51 v228 v257 k0_t54) S1x1x1x16x128.size (k0_off2167_inb v1 k0_t51 v228 v257 k0_hw35 k0_t54)).PackedRows (EltTy.packing .bf16) := fun v1 k0_t51 v228 v257 k0_hw35 k0_t54 => k0_hw35.2.2.2.2.2.2.1.2.2.2.2.2.2.2.2.2.2.2.2.2.2.2.2.2.2.2.2.2.2.1 k0_t54 (k0_off2167_inb v1 k0_t51 v228 v257 k0_hw35 k0_t54)
theorem k0_off2169_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2169 v1 k0_t51 v228 v257 k0_t54) a + S1x1x1x16x128.size a ≤ S2x2x108x128x128.size a := fun v1 k0_t51 v228 v257 k0_hw35 k0_t54 => k0_hw35.2.2.2.2.2.2.1.2.2.2.2.2.2.2.2.2.2.2.2.2.2.2.2.2.2.2.2.2.2.2.1 k0_t54
theorem k0_off2169_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2169 v1 k0_t51 v228 v257 k0_t54) S1x1x1x16x128.size (k0_off2169_inb v1 k0_t51 v228 v257 k0_hw35 k0_t54)).PackedRows (EltTy.packing .bf16) := fun v1 k0_t51 v228 v257 k0_hw35 k0_t54 => k0_hw35.2.2.2.2.2.2.1.2.2.2.2.2.2.2.2.2.2.2.2.2.2.2.2.2.2.2.2.2.2.2.2.1 k0_t54 (k0_off2169_inb v1 k0_t51 v228 v257 k0_hw35 k0_t54)
theorem k0_off2170_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2170 v1 k0_t51 v228 v257 k0_t54) a + S1x1x1x32x128.size a ≤ S2x2x8x1728x128.size a := fun v1 k0_t51 v228 v257 k0_hw35 k0_t54 => k0_hw35.2.2.2.2.2.2.1.2.2.2.2.2.2.2.2.2.2.2.2.2.2.2.2.2.2.2.2.2.2.2.2.2.1 k0_t54
theorem k0_off2172_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2172 v1 k0_t51 v228 v257 k0_t54) a + S1x1x1x16x128.size a ≤ S2x2x108x128x128.size a := fun v1 k0_t51 v228 v257 k0_hw35 k0_t54 => k0_hw35.2.2.2.2.2.2.1.2.2.2.2.2.2.2.2.2.2.2.2.2.2.2.2.2.2.2.2.2.2.2.2.2.2.1 k0_t54
theorem k0_off2172_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2172 v1 k0_t51 v228 v257 k0_t54) S1x1x1x16x128.size (k0_off2172_inb v1 k0_t51 v228 v257 k0_hw35 k0_t54)).PackedRows (EltTy.packing .bf16) := fun v1 k0_t51 v228 v257 k0_hw35 k0_t54 => k0_hw35.2.2.2.2.2.2.1.2.2.2.2.2.2.2.2.2.2.2.2.2.2.2.2.2.2.2.2.2.2.2.2.2.2.2.1 k0_t54 (k0_off2172_inb v1 k0_t51 v228 v257 k0_hw35 k0_t54)
theorem k0_off2174_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2174 v1 k0_t51 v228 v257 k0_t54) a + S1x1x1x16x128.size a ≤ S2x2x108x128x128.size a := fun v1 k0_t51 v228 v257 k0_hw35 k0_t54 => k0_hw35.2.2.2.2.2.2.1.2.2.2.2.2.2.2.2.2.2.2.2.2.2.2.2.2.2.2.2.2.2.2.2.2.2.2.2.1 k0_t54
theorem k0_off2174_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2174 v1 k0_t51 v228 v257 k0_t54) S1x1x1x16x128.size (k0_off2174_inb v1 k0_t51 v228 v257 k0_hw35 k0_t54)).PackedRows (EltTy.packing .bf16) := fun v1 k0_t51 v228 v257 k0_hw35 k0_t54 => k0_hw35.2.2.2.2.2.2.1.2.2.2.2.2.2.2.2.2.2.2.2.2.2.2.2.2.2.2.2.2.2.2.2.2.2.2.2.2.1 k0_t54 (k0_off2174_inb v1 k0_t51 v228 v257 k0_hw35 k0_t54)
theorem k0_off2175_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2175 v1 k0_t51 v228 v257 k0_t54) a + S1x1x1x32x128.size a ≤ S2x2x8x1728x128.size a := fun v1 k0_t51 v228 v257 k0_hw35 k0_t54 => k0_hw35.2.2.2.2.2.2.1.2.2.2.2.2.2.2.2.2.2.2.2.2.2.2.2.2.2.2.2.2.2.2.2.2.2.2.2.2.2.1 k0_t54
theorem k0_off2177_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2177 v1 k0_t51 v228 v257 k0_t54) a + S1x1x1x16x128.size a ≤ S2x2x108x128x128.size a := fun v1 k0_t51 v228 v257 k0_hw35 k0_t54 => k0_hw35.2.2.2.2.2.2.1.2.2.2.2.2.2.2.2.2.2.2.2.2.2.2.2.2.2.2.2.2.2.2.2.2.2.2.2.2.2.2 k0_t54
theorem k0_off2177_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2177 v1 k0_t51 v228 v257 k0_t54) S1x1x1x16x128.size (k0_off2177_inb v1 k0_t51 v228 v257 k0_hw35 k0_t54)).PackedRows (EltTy.packing .bf16) := fun v1 k0_t51 v228 v257 k0_hw35 k0_t54 => k0_hw35.2.2.2.2.2.2.2.1.1 k0_t54 (k0_off2177_inb v1 k0_t51 v228 v257 k0_hw35 k0_t54)
theorem k0_off2179_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2179 v1 k0_t51 v228 v257 k0_t54) a + S1x1x1x16x128.size a ≤ S2x2x108x128x128.size a := fun v1 k0_t51 v228 v257 k0_hw35 k0_t54 => k0_hw35.2.2.2.2.2.2.2.1.2.1 k0_t54
theorem k0_off2179_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2179 v1 k0_t51 v228 v257 k0_t54) S1x1x1x16x128.size (k0_off2179_inb v1 k0_t51 v228 v257 k0_hw35 k0_t54)).PackedRows (EltTy.packing .bf16) := fun v1 k0_t51 v228 v257 k0_hw35 k0_t54 => k0_hw35.2.2.2.2.2.2.2.1.2.2.1 k0_t54 (k0_off2179_inb v1 k0_t51 v228 v257 k0_hw35 k0_t54)
theorem k0_off2180_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2180 v1 k0_t51 v228 v257 k0_t54) a + S1x1x1x32x128.size a ≤ S2x2x8x1728x128.size a := fun v1 k0_t51 v228 v257 k0_hw35 k0_t54 => k0_hw35.2.2.2.2.2.2.2.1.2.2.2.1 k0_t54
theorem k0_off2182_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2182 v1 k0_t51 v228 v257 k0_t54) a + S1x1x1x16x128.size a ≤ S2x2x108x128x128.size a := fun v1 k0_t51 v228 v257 k0_hw35 k0_t54 => k0_hw35.2.2.2.2.2.2.2.1.2.2.2.2.1 k0_t54
theorem k0_off2182_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2182 v1 k0_t51 v228 v257 k0_t54) S1x1x1x16x128.size (k0_off2182_inb v1 k0_t51 v228 v257 k0_hw35 k0_t54)).PackedRows (EltTy.packing .bf16) := fun v1 k0_t51 v228 v257 k0_hw35 k0_t54 => k0_hw35.2.2.2.2.2.2.2.1.2.2.2.2.2.1 k0_t54 (k0_off2182_inb v1 k0_t51 v228 v257 k0_hw35 k0_t54)
theorem k0_off2184_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2184 v1 k0_t51 v228 v257 k0_t54) a + S1x1x1x16x128.size a ≤ S2x2x108x128x128.size a := fun v1 k0_t51 v228 v257 k0_hw35 k0_t54 => k0_hw35.2.2.2.2.2.2.2.1.2.2.2.2.2.2.1 k0_t54
theorem k0_off2184_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2184 v1 k0_t51 v228 v257 k0_t54) S1x1x1x16x128.size (k0_off2184_inb v1 k0_t51 v228 v257 k0_hw35 k0_t54)).PackedRows (EltTy.packing .bf16) := fun v1 k0_t51 v228 v257 k0_hw35 k0_t54 => k0_hw35.2.2.2.2.2.2.2.1.2.2.2.2.2.2.2.1 k0_t54 (k0_off2184_inb v1 k0_t51 v228 v257 k0_hw35 k0_t54)
theorem k0_off2185_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2185 v1 k0_t51 v228 v257 k0_t54) a + S1x1x1x32x128.size a ≤ S2x2x8x1728x128.size a := fun v1 k0_t51 v228 v257 k0_hw35 k0_t54 => k0_hw35.2.2.2.2.2.2.2.1.2.2.2.2.2.2.2.2.1 k0_t54
theorem k0_off2187_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2187 v1 k0_t51 v228 v257 k0_t54) a + S1x1x1x16x128.size a ≤ S2x2x108x128x128.size a := fun v1 k0_t51 v228 v257 k0_hw35 k0_t54 => k0_hw35.2.2.2.2.2.2.2.1.2.2.2.2.2.2.2.2.2.1 k0_t54
theorem k0_off2187_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2187 v1 k0_t51 v228 v257 k0_t54) S1x1x1x16x128.size (k0_off2187_inb v1 k0_t51 v228 v257 k0_hw35 k0_t54)).PackedRows (EltTy.packing .bf16) := fun v1 k0_t51 v228 v257 k0_hw35 k0_t54 => k0_hw35.2.2.2.2.2.2.2.1.2.2.2.2.2.2.2.2.2.2.1 k0_t54 (k0_off2187_inb v1 k0_t51 v228 v257 k0_hw35 k0_t54)
theorem k0_off2189_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2189 v1 k0_t51 v228 v257 k0_t54) a + S1x1x1x16x128.size a ≤ S2x2x108x128x128.size a := fun v1 k0_t51 v228 v257 k0_hw35 k0_t54 => k0_hw35.2.2.2.2.2.2.2.1.2.2.2.2.2.2.2.2.2.2.2.1 k0_t54
theorem k0_off2189_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2189 v1 k0_t51 v228 v257 k0_t54) S1x1x1x16x128.size (k0_off2189_inb v1 k0_t51 v228 v257 k0_hw35 k0_t54)).PackedRows (EltTy.packing .bf16) := fun v1 k0_t51 v228 v257 k0_hw35 k0_t54 => k0_hw35.2.2.2.2.2.2.2.1.2.2.2.2.2.2.2.2.2.2.2.2.1 k0_t54 (k0_off2189_inb v1 k0_t51 v228 v257 k0_hw35 k0_t54)
theorem k0_off2190_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2190 v1 k0_t51 v228 v257 k0_t54) a + S1x1x1x32x128.size a ≤ S2x2x8x1728x128.size a := fun v1 k0_t51 v228 v257 k0_hw35 k0_t54 => k0_hw35.2.2.2.2.2.2.2.1.2.2.2.2.2.2.2.2.2.2.2.2.2.1 k0_t54
theorem k0_off2192_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2192 v1 k0_t51 v228 v257 k0_t54) a + S1x1x1x16x128.size a ≤ S2x2x108x128x128.size a := fun v1 k0_t51 v228 v257 k0_hw35 k0_t54 => k0_hw35.2.2.2.2.2.2.2.1.2.2.2.2.2.2.2.2.2.2.2.2.2.2.1 k0_t54
theorem k0_off2192_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2192 v1 k0_t51 v228 v257 k0_t54) S1x1x1x16x128.size (k0_off2192_inb v1 k0_t51 v228 v257 k0_hw35 k0_t54)).PackedRows (EltTy.packing .bf16) := fun v1 k0_t51 v228 v257 k0_hw35 k0_t54 => k0_hw35.2.2.2.2.2.2.2.1.2.2.2.2.2.2.2.2.2.2.2.2.2.2.2.1 k0_t54 (k0_off2192_inb v1 k0_t51 v228 v257 k0_hw35 k0_t54)
theorem k0_off2194_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2194 v1 k0_t51 v228 v257 k0_t54) a + S1x1x1x16x128.size a ≤ S2x2x108x128x128.size a := fun v1 k0_t51 v228 v257 k0_hw35 k0_t54 => k0_hw35.2.2.2.2.2.2.2.1.2.2.2.2.2.2.2.2.2.2.2.2.2.2.2.2.1 k0_t54
theorem k0_off2194_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2194 v1 k0_t51 v228 v257 k0_t54) S1x1x1x16x128.size (k0_off2194_inb v1 k0_t51 v228 v257 k0_hw35 k0_t54)).PackedRows (EltTy.packing .bf16) := fun v1 k0_t51 v228 v257 k0_hw35 k0_t54 => k0_hw35.2.2.2.2.2.2.2.1.2.2.2.2.2.2.2.2.2.2.2.2.2.2.2.2.2.1 k0_t54 (k0_off2194_inb v1 k0_t51 v228 v257 k0_hw35 k0_t54)
theorem k0_off2195_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2195 v1 k0_t51 v228 v257 k0_t54) a + S1x1x1x32x128.size a ≤ S2x2x8x1728x128.size a := fun v1 k0_t51 v228 v257 k0_hw35 k0_t54 => k0_hw35.2.2.2.2.2.2.2.1.2.2.2.2.2.2.2.2.2.2.2.2.2.2.2.2.2.2.1 k0_t54
theorem k0_off2197_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2197 v1 k0_t51 v228 v257 k0_t54) a + S1x1x1x16x128.size a ≤ S2x2x108x128x128.size a := fun v1 k0_t51 v228 v257 k0_hw35 k0_t54 => k0_hw35.2.2.2.2.2.2.2.1.2.2.2.2.2.2.2.2.2.2.2.2.2.2.2.2.2.2.2.1 k0_t54
theorem k0_off2197_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2197 v1 k0_t51 v228 v257 k0_t54) S1x1x1x16x128.size (k0_off2197_inb v1 k0_t51 v228 v257 k0_hw35 k0_t54)).PackedRows (EltTy.packing .bf16) := fun v1 k0_t51 v228 v257 k0_hw35 k0_t54 => k0_hw35.2.2.2.2.2.2.2.1.2.2.2.2.2.2.2.2.2.2.2.2.2.2.2.2.2.2.2.2.1 k0_t54 (k0_off2197_inb v1 k0_t51 v228 v257 k0_hw35 k0_t54)
theorem k0_off2199_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2199 v1 k0_t51 v228 v257 k0_t54) a + S1x1x1x16x128.size a ≤ S2x2x108x128x128.size a := fun v1 k0_t51 v228 v257 k0_hw35 k0_t54 => k0_hw35.2.2.2.2.2.2.2.1.2.2.2.2.2.2.2.2.2.2.2.2.2.2.2.2.2.2.2.2.2.1 k0_t54
theorem k0_off2199_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2199 v1 k0_t51 v228 v257 k0_t54) S1x1x1x16x128.size (k0_off2199_inb v1 k0_t51 v228 v257 k0_hw35 k0_t54)).PackedRows (EltTy.packing .bf16) := fun v1 k0_t51 v228 v257 k0_hw35 k0_t54 => k0_hw35.2.2.2.2.2.2.2.1.2.2.2.2.2.2.2.2.2.2.2.2.2.2.2.2.2.2.2.2.2.2.1 k0_t54 (k0_off2199_inb v1 k0_t51 v228 v257 k0_hw35 k0_t54)
theorem k0_off2200_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2200 v1 k0_t51 v228 v257 k0_t54) a + S1x1x1x32x128.size a ≤ S2x2x8x1728x128.size a := fun v1 k0_t51 v228 v257 k0_hw35 k0_t54 => k0_hw35.2.2.2.2.2.2.2.1.2.2.2.2.2.2.2.2.2.2.2.2.2.2.2.2.2.2.2.2.2.2.2.1 k0_t54
theorem k0_off2202_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2202 v1 k0_t51 v228 v257 k0_t54) a + S1x1x1x16x128.size a ≤ S2x2x108x128x128.size a := fun v1 k0_t51 v228 v257 k0_hw35 k0_t54 => k0_hw35.2.2.2.2.2.2.2.1.2.2.2.2.2.2.2.2.2.2.2.2.2.2.2.2.2.2.2.2.2.2.2.2.1 k0_t54
theorem k0_off2202_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2202 v1 k0_t51 v228 v257 k0_t54) S1x1x1x16x128.size (k0_off2202_inb v1 k0_t51 v228 v257 k0_hw35 k0_t54)).PackedRows (EltTy.packing .bf16) := fun v1 k0_t51 v228 v257 k0_hw35 k0_t54 => k0_hw35.2.2.2.2.2.2.2.1.2.2.2.2.2.2.2.2.2.2.2.2.2.2.2.2.2.2.2.2.2.2.2.2.2.1 k0_t54 (k0_off2202_inb v1 k0_t51 v228 v257 k0_hw35 k0_t54)
theorem k0_off2204_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2204 v1 k0_t51 v228 v257 k0_t54) a + S1x1x1x16x128.size a ≤ S2x2x108x128x128.size a := fun v1 k0_t51 v228 v257 k0_hw35 k0_t54 => k0_hw35.2.2.2.2.2.2.2.1.2.2.2.2.2.2.2.2.2.2.2.2.2.2.2.2.2.2.2.2.2.2.2.2.2.2.1 k0_t54
theorem k0_off2204_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2204 v1 k0_t51 v228 v257 k0_t54) S1x1x1x16x128.size (k0_off2204_inb v1 k0_t51 v228 v257 k0_hw35 k0_t54)).PackedRows (EltTy.packing .bf16) := fun v1 k0_t51 v228 v257 k0_hw35 k0_t54 => k0_hw35.2.2.2.2.2.2.2.1.2.2.2.2.2.2.2.2.2.2.2.2.2.2.2.2.2.2.2.2.2.2.2.2.2.2.2.1 k0_t54 (k0_off2204_inb v1 k0_t51 v228 v257 k0_hw35 k0_t54)
theorem k0_off2205_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2205 v1 k0_t51 v228 v257 k0_t54) a + S1x1x1x32x128.size a ≤ S2x2x8x1728x128.size a := fun v1 k0_t51 v228 v257 k0_hw35 k0_t54 => k0_hw35.2.2.2.2.2.2.2.1.2.2.2.2.2.2.2.2.2.2.2.2.2.2.2.2.2.2.2.2.2.2.2.2.2.2.2.2.1 k0_t54
theorem k0_off2207_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2207 v1 k0_t51 v228 v257 k0_t54) a + S1x1x1x16x128.size a ≤ S2x2x108x128x128.size a := fun v1 k0_t51 v228 v257 k0_hw35 k0_t54 => k0_hw35.2.2.2.2.2.2.2.1.2.2.2.2.2.2.2.2.2.2.2.2.2.2.2.2.2.2.2.2.2.2.2.2.2.2.2.2.2.1 k0_t54
theorem k0_off2207_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2207 v1 k0_t51 v228 v257 k0_t54) S1x1x1x16x128.size (k0_off2207_inb v1 k0_t51 v228 v257 k0_hw35 k0_t54)).PackedRows (EltTy.packing .bf16) := fun v1 k0_t51 v228 v257 k0_hw35 k0_t54 => k0_hw35.2.2.2.2.2.2.2.1.2.2.2.2.2.2.2.2.2.2.2.2.2.2.2.2.2.2.2.2.2.2.2.2.2.2.2.2.2.2.1 k0_t54 (k0_off2207_inb v1 k0_t51 v228 v257 k0_hw35 k0_t54)
theorem k0_off2209_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2209 v1 k0_t51 v228 v257 k0_t54) a + S1x1x1x16x128.size a ≤ S2x2x108x128x128.size a := fun v1 k0_t51 v228 v257 k0_hw35 k0_t54 => k0_hw35.2.2.2.2.2.2.2.1.2.2.2.2.2.2.2.2.2.2.2.2.2.2.2.2.2.2.2.2.2.2.2.2.2.2.2.2.2.2.2 k0_t54
theorem k0_off2209_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2209 v1 k0_t51 v228 v257 k0_t54) S1x1x1x16x128.size (k0_off2209_inb v1 k0_t51 v228 v257 k0_hw35 k0_t54)).PackedRows (EltTy.packing .bf16) := fun v1 k0_t51 v228 v257 k0_hw35 k0_t54 => k0_hw35.2.2.2.2.2.2.2.2.1.1 k0_t54 (k0_off2209_inb v1 k0_t51 v228 v257 k0_hw35 k0_t54)
theorem k0_off2210_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2210 v1 k0_t51 v228 v257 k0_t54) a + S1x1x1x32x128.size a ≤ S2x2x8x1728x128.size a := fun v1 k0_t51 v228 v257 k0_hw35 k0_t54 => k0_hw35.2.2.2.2.2.2.2.2.1.2.1 k0_t54
theorem k0_off2212_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2212 v1 k0_t51 v228 v257 k0_t54) a + S1x1x1x16x128.size a ≤ S2x2x108x128x128.size a := fun v1 k0_t51 v228 v257 k0_hw35 k0_t54 => k0_hw35.2.2.2.2.2.2.2.2.1.2.2.1 k0_t54
theorem k0_off2212_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2212 v1 k0_t51 v228 v257 k0_t54) S1x1x1x16x128.size (k0_off2212_inb v1 k0_t51 v228 v257 k0_hw35 k0_t54)).PackedRows (EltTy.packing .bf16) := fun v1 k0_t51 v228 v257 k0_hw35 k0_t54 => k0_hw35.2.2.2.2.2.2.2.2.1.2.2.2.1 k0_t54 (k0_off2212_inb v1 k0_t51 v228 v257 k0_hw35 k0_t54)
theorem k0_off2214_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2214 v1 k0_t51 v228 v257 k0_t54) a + S1x1x1x16x128.size a ≤ S2x2x108x128x128.size a := fun v1 k0_t51 v228 v257 k0_hw35 k0_t54 => k0_hw35.2.2.2.2.2.2.2.2.1.2.2.2.2.1 k0_t54
theorem k0_off2214_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2214 v1 k0_t51 v228 v257 k0_t54) S1x1x1x16x128.size (k0_off2214_inb v1 k0_t51 v228 v257 k0_hw35 k0_t54)).PackedRows (EltTy.packing .bf16) := fun v1 k0_t51 v228 v257 k0_hw35 k0_t54 => k0_hw35.2.2.2.2.2.2.2.2.1.2.2.2.2.2.1 k0_t54 (k0_off2214_inb v1 k0_t51 v228 v257 k0_hw35 k0_t54)
theorem k0_off2215_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2215 v1 k0_t51 v228 v257 k0_t54) a + S1x1x1x32x128.size a ≤ S2x2x8x1728x128.size a := fun v1 k0_t51 v228 v257 k0_hw35 k0_t54 => k0_hw35.2.2.2.2.2.2.2.2.1.2.2.2.2.2.2.1 k0_t54
theorem k0_off2217_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2217 v1 k0_t51 v228 v257 k0_t54) a + S1x1x1x16x128.size a ≤ S2x2x108x128x128.size a := fun v1 k0_t51 v228 v257 k0_hw35 k0_t54 => k0_hw35.2.2.2.2.2.2.2.2.1.2.2.2.2.2.2.2.1 k0_t54
theorem k0_off2217_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2217 v1 k0_t51 v228 v257 k0_t54) S1x1x1x16x128.size (k0_off2217_inb v1 k0_t51 v228 v257 k0_hw35 k0_t54)).PackedRows (EltTy.packing .bf16) := fun v1 k0_t51 v228 v257 k0_hw35 k0_t54 => k0_hw35.2.2.2.2.2.2.2.2.1.2.2.2.2.2.2.2.2.1 k0_t54 (k0_off2217_inb v1 k0_t51 v228 v257 k0_hw35 k0_t54)
theorem k0_off2219_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2219 v1 k0_t51 v228 v257 k0_t54) a + S1x1x1x16x128.size a ≤ S2x2x108x128x128.size a := fun v1 k0_t51 v228 v257 k0_hw35 k0_t54 => k0_hw35.2.2.2.2.2.2.2.2.1.2.2.2.2.2.2.2.2.2.1 k0_t54
theorem k0_off2219_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2219 v1 k0_t51 v228 v257 k0_t54) S1x1x1x16x128.size (k0_off2219_inb v1 k0_t51 v228 v257 k0_hw35 k0_t54)).PackedRows (EltTy.packing .bf16) := fun v1 k0_t51 v228 v257 k0_hw35 k0_t54 => k0_hw35.2.2.2.2.2.2.2.2.1.2.2.2.2.2.2.2.2.2.2.1 k0_t54 (k0_off2219_inb v1 k0_t51 v228 v257 k0_hw35 k0_t54)
theorem k0_off2220_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2220 v1 k0_t51 v228 v257 k0_t54) a + S1x1x1x32x128.size a ≤ S2x2x8x1728x128.size a := fun v1 k0_t51 v228 v257 k0_hw35 k0_t54 => k0_hw35.2.2.2.2.2.2.2.2.1.2.2.2.2.2.2.2.2.2.2.2.1 k0_t54
theorem k0_off2222_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2222 v1 k0_t51 v228 v257 k0_t54) a + S1x1x1x16x128.size a ≤ S2x2x108x128x128.size a := fun v1 k0_t51 v228 v257 k0_hw35 k0_t54 => k0_hw35.2.2.2.2.2.2.2.2.1.2.2.2.2.2.2.2.2.2.2.2.2.1 k0_t54
theorem k0_off2222_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2222 v1 k0_t51 v228 v257 k0_t54) S1x1x1x16x128.size (k0_off2222_inb v1 k0_t51 v228 v257 k0_hw35 k0_t54)).PackedRows (EltTy.packing .bf16) := fun v1 k0_t51 v228 v257 k0_hw35 k0_t54 => k0_hw35.2.2.2.2.2.2.2.2.1.2.2.2.2.2.2.2.2.2.2.2.2.2.1 k0_t54 (k0_off2222_inb v1 k0_t51 v228 v257 k0_hw35 k0_t54)
theorem k0_off2224_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2224 v1 k0_t51 v228 v257 k0_t54) a + S1x1x1x16x128.size a ≤ S2x2x108x128x128.size a := fun v1 k0_t51 v228 v257 k0_hw35 k0_t54 => k0_hw35.2.2.2.2.2.2.2.2.1.2.2.2.2.2.2.2.2.2.2.2.2.2.2.1 k0_t54
theorem k0_off2224_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2224 v1 k0_t51 v228 v257 k0_t54) S1x1x1x16x128.size (k0_off2224_inb v1 k0_t51 v228 v257 k0_hw35 k0_t54)).PackedRows (EltTy.packing .bf16) := fun v1 k0_t51 v228 v257 k0_hw35 k0_t54 => k0_hw35.2.2.2.2.2.2.2.2.1.2.2.2.2.2.2.2.2.2.2.2.2.2.2.2.1 k0_t54 (k0_off2224_inb v1 k0_t51 v228 v257 k0_hw35 k0_t54)
theorem k0_off2225_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2225 v1 k0_t51 v228 v257 k0_t54) a + S1x1x1x32x128.size a ≤ S2x2x8x1728x128.size a := fun v1 k0_t51 v228 v257 k0_hw35 k0_t54 => k0_hw35.2.2.2.2.2.2.2.2.1.2.2.2.2.2.2.2.2.2.2.2.2.2.2.2.2.1 k0_t54
theorem k0_off2227_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2227 v1 k0_t51 v228 v257 k0_t54) a + S1x1x1x16x128.size a ≤ S2x2x108x128x128.size a := fun v1 k0_t51 v228 v257 k0_hw35 k0_t54 => k0_hw35.2.2.2.2.2.2.2.2.1.2.2.2.2.2.2.2.2.2.2.2.2.2.2.2.2.2.1 k0_t54
theorem k0_off2227_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2227 v1 k0_t51 v228 v257 k0_t54) S1x1x1x16x128.size (k0_off2227_inb v1 k0_t51 v228 v257 k0_hw35 k0_t54)).PackedRows (EltTy.packing .bf16) := fun v1 k0_t51 v228 v257 k0_hw35 k0_t54 => k0_hw35.2.2.2.2.2.2.2.2.1.2.2.2.2.2.2.2.2.2.2.2.2.2.2.2.2.2.2.1 k0_t54 (k0_off2227_inb v1 k0_t51 v228 v257 k0_hw35 k0_t54)
theorem k0_off2229_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2229 v1 k0_t51 v228 v257 k0_t54) a + S1x1x1x16x128.size a ≤ S2x2x108x128x128.size a := fun v1 k0_t51 v228 v257 k0_hw35 k0_t54 => k0_hw35.2.2.2.2.2.2.2.2.1.2.2.2.2.2.2.2.2.2.2.2.2.2.2.2.2.2.2.2.1 k0_t54
theorem k0_off2229_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2229 v1 k0_t51 v228 v257 k0_t54) S1x1x1x16x128.size (k0_off2229_inb v1 k0_t51 v228 v257 k0_hw35 k0_t54)).PackedRows (EltTy.packing .bf16) := fun v1 k0_t51 v228 v257 k0_hw35 k0_t54 => k0_hw35.2.2.2.2.2.2.2.2.1.2.2.2.2.2.2.2.2.2.2.2.2.2.2.2.2.2.2.2.2.1 k0_t54 (k0_off2229_inb v1 k0_t51 v228 v257 k0_hw35 k0_t54)
theorem k0_off2230_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2230 v1 k0_t51 v228 v257 k0_t54) a + S1x1x1x32x128.size a ≤ S2x2x8x1728x128.size a := fun v1 k0_t51 v228 v257 k0_hw35 k0_t54 => k0_hw35.2.2.2.2.2.2.2.2.1.2.2.2.2.2.2.2.2.2.2.2.2.2.2.2.2.2.2.2.2.2.1 k0_t54
theorem k0_off2232_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2232 v1 k0_t51 v228 v257 k0_t54) a + S1x1x1x16x128.size a ≤ S2x2x108x128x128.size a := fun v1 k0_t51 v228 v257 k0_hw35 k0_t54 => k0_hw35.2.2.2.2.2.2.2.2.1.2.2.2.2.2.2.2.2.2.2.2.2.2.2.2.2.2.2.2.2.2.2.1 k0_t54
theorem k0_off2232_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2232 v1 k0_t51 v228 v257 k0_t54) S1x1x1x16x128.size (k0_off2232_inb v1 k0_t51 v228 v257 k0_hw35 k0_t54)).PackedRows (EltTy.packing .bf16) := fun v1 k0_t51 v228 v257 k0_hw35 k0_t54 => k0_hw35.2.2.2.2.2.2.2.2.1.2.2.2.2.2.2.2.2.2.2.2.2.2.2.2.2.2.2.2.2.2.2.2.1 k0_t54 (k0_off2232_inb v1 k0_t51 v228 v257 k0_hw35 k0_t54)
theorem k0_off2234_inb : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), ∀ a, (k0_off2234 v1 k0_t51 v228 v257 k0_t54) a + S1x1x1x16x128.size a ≤ S2x2x108x128x128.size a := fun v1 k0_t51 v228 v257 k0_hw35 k0_t54 => k0_hw35.2.2.2.2.2.2.2.2.1.2.2.2.2.2.2.2.2.2.2.2.2.2.2.2.2.2.2.2.2.2.2.2.2.1 k0_t54
theorem k0_off2234_packedbf16 : ∀ (v1 : BitVec 32) (k0_t51 : Fin (k0_t51_loop v1).trips) (v228 : BitVec 32) (v257 : BitVec 32) (k0_hw35 : k0_chk35 v1 k0_t51 v228 v257) (k0_t54 : Fin (k0_t54_loop v228 v257).trips), (Rect.unit (s := S2x2x108x128x128) (k0_off2234 v1 k0_t51 v228 v257 k0_t54) S1x1x1x16x128.size (k0_off2234_inb v1 k0_t51 v228 v257 k0_hw35 k0_t54)).PackedRows (EltTy.packing .bf16) := fun v1 k0_t51 v228 v257 k0_hw35 k0_t54 => k0_hw35.2.2.2.2.2.2.2.2.1.2.2.2.2.2.2.2.2.2.2.2.2.2.2.2.2.2.2.2.2.2.2.2.2.2.1 k0_t54 (k0_off2234_inb v1 k0_t51 v228 v257 k0_hw35 k0_t54)
theorem k0_t55_ok : ∀ (v1 : BitVec 32) (k0_t51 : Fin (k0_t51_loop v1).trips) (v228 : BitVec 32) (v257 : BitVec 32) (k0_hw35 : k0_chk35 v1 k0_t51 v228 v257), (k0_t55_loop v228 v257).OK := fun v1 k0_t51 v228 v257 k0_hw35 => k0_hw35.2.2.2.2.2.2.2.2.1.2.2.2.2.2.2.2.2.2.2.2.2.2.2.2.2.2.2.2.2.2.2.2.2.2.2.1
theorem k0_off2235_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2235 v228 v257 k0_t55) a + S1x1.size a ≤ S8x128.size a := fun v1 k0_t51 v228 v257 k0_hw35 k0_t55 => k0_hw35.2.2.2.2.2.2.2.2.1.2.2.2.2.2.2.2.2.2.2.2.2.2.2.2.2.2.2.2.2.2.2.2.2.2.2.2.1 k0_t55
theorem k0_off2236_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2236 v228) a + S1.size a ≤ S8.size a := fun v1 k0_t51 v228 v257 k0_hw35 k0_t55 => k0_hw35.2.2.2.2.2.2.2.2.1.2.2.2.2.2.2.2.2.2.2.2.2.2.2.2.2.2.2.2.2.2.2.2.2.2.2.2.2.1 k0_t55
theorem k0_mult19_dvd : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), 16 ∣ (k0_mult19 v228 v257 k0_t55).toNat := fun v1 k0_t51 v228 v257 k0_hw35 k0_t55 => k0_hw35.2.2.2.2.2.2.2.2.1.2.2.2.2.2.2.2.2.2.2.2.2.2.2.2.2.2.2.2.2.2.2.2.2.2.2.2.2.2.1 k0_t55
theorem k0_off2237_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2237 v1 k0_t51 v228 v257 k0_t55) a + S1x1x1x32x128.size a ≤ S2x2x8x1728x128.size a := fun v1 k0_t51 v228 v257 k0_hw35 k0_t55 => k0_hw35.2.2.2.2.2.2.2.2.1.2.2.2.2.2.2.2.2.2.2.2.2.2.2.2.2.2.2.2.2.2.2.2.2.2.2.2.2.2.2.1 k0_t55
theorem k0_off2239_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2239 v1 k0_t51 v228 v257 k0_t55) a + S1x1x1x16x128.size a ≤ S2x2x108x128x128.size a := fun v1 k0_t51 v228 v257 k0_hw35 k0_t55 => k0_hw35.2.2.2.2.2.2.2.2.1.2.2.2.2.2.2.2.2.2.2.2.2.2.2.2.2.2.2.2.2.2.2.2.2.2.2.2.2.2.2.2 k0_t55
theorem k0_off2239_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2239 v1 k0_t51 v228 v257 k0_t55) S1x1x1x16x128.size (k0_off2239_inb v1 k0_t51 v228 v257 k0_hw35 k0_t55)).PackedRows (EltTy.packing .bf16) := fun v1 k0_t51 v228 v257 k0_hw35 k0_t55 => k0_hw35.2.2.2.2.2.2.2.2.2.1.1 k0_t55 (k0_off2239_inb v1 k0_t51 v228 v257 k0_hw35 k0_t55)
theorem k0_off2241_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2241 v1 k0_t51 v228 v257 k0_t55) a + S1x1x1x16x128.size a ≤ S2x2x108x128x128.size a := fun v1 k0_t51 v228 v257 k0_hw35 k0_t55 => k0_hw35.2.2.2.2.2.2.2.2.2.1.2.1 k0_t55
theorem k0_off2241_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2241 v1 k0_t51 v228 v257 k0_t55) S1x1x1x16x128.size (k0_off2241_inb v1 k0_t51 v228 v257 k0_hw35 k0_t55)).PackedRows (EltTy.packing .bf16) := fun v1 k0_t51 v228 v257 k0_hw35 k0_t55 => k0_hw35.2.2.2.2.2.2.2.2.2.1.2.2.1 k0_t55 (k0_off2241_inb v1 k0_t51 v228 v257 k0_hw35 k0_t55)
theorem k0_off2242_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2242 v1 k0_t51 v228 v257 k0_t55) a + S1x1x1x32x128.size a ≤ S2x2x8x1728x128.size a := fun v1 k0_t51 v228 v257 k0_hw35 k0_t55 => k0_hw35.2.2.2.2.2.2.2.2.2.1.2.2.2.1 k0_t55
theorem k0_off2244_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2244 v1 k0_t51 v228 v257 k0_t55) a + S1x1x1x16x128.size a ≤ S2x2x108x128x128.size a := fun v1 k0_t51 v228 v257 k0_hw35 k0_t55 => k0_hw35.2.2.2.2.2.2.2.2.2.1.2.2.2.2.1 k0_t55
theorem k0_off2244_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2244 v1 k0_t51 v228 v257 k0_t55) S1x1x1x16x128.size (k0_off2244_inb v1 k0_t51 v228 v257 k0_hw35 k0_t55)).PackedRows (EltTy.packing .bf16) := fun v1 k0_t51 v228 v257 k0_hw35 k0_t55 => k0_hw35.2.2.2.2.2.2.2.2.2.1.2.2.2.2.2.1 k0_t55 (k0_off2244_inb v1 k0_t51 v228 v257 k0_hw35 k0_t55)
theorem k0_off2246_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2246 v1 k0_t51 v228 v257 k0_t55) a + S1x1x1x16x128.size a ≤ S2x2x108x128x128.size a := fun v1 k0_t51 v228 v257 k0_hw35 k0_t55 => k0_hw35.2.2.2.2.2.2.2.2.2.1.2.2.2.2.2.2.1 k0_t55
theorem k0_off2246_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2246 v1 k0_t51 v228 v257 k0_t55) S1x1x1x16x128.size (k0_off2246_inb v1 k0_t51 v228 v257 k0_hw35 k0_t55)).PackedRows (EltTy.packing .bf16) := fun v1 k0_t51 v228 v257 k0_hw35 k0_t55 => k0_hw35.2.2.2.2.2.2.2.2.2.1.2.2.2.2.2.2.2.1 k0_t55 (k0_off2246_inb v1 k0_t51 v228 v257 k0_hw35 k0_t55)
theorem k0_off2247_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2247 v1 k0_t51 v228 v257 k0_t55) a + S1x1x1x32x128.size a ≤ S2x2x8x1728x128.size a := fun v1 k0_t51 v228 v257 k0_hw35 k0_t55 => k0_hw35.2.2.2.2.2.2.2.2.2.1.2.2.2.2.2.2.2.2.1 k0_t55
theorem k0_off2249_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2249 v1 k0_t51 v228 v257 k0_t55) a + S1x1x1x16x128.size a ≤ S2x2x108x128x128.size a := fun v1 k0_t51 v228 v257 k0_hw35 k0_t55 => k0_hw35.2.2.2.2.2.2.2.2.2.1.2.2.2.2.2.2.2.2.2.1 k0_t55
theorem k0_off2249_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2249 v1 k0_t51 v228 v257 k0_t55) S1x1x1x16x128.size (k0_off2249_inb v1 k0_t51 v228 v257 k0_hw35 k0_t55)).PackedRows (EltTy.packing .bf16) := fun v1 k0_t51 v228 v257 k0_hw35 k0_t55 => k0_hw35.2.2.2.2.2.2.2.2.2.1.2.2.2.2.2.2.2.2.2.2.1 k0_t55 (k0_off2249_inb v1 k0_t51 v228 v257 k0_hw35 k0_t55)
theorem k0_off2251_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2251 v1 k0_t51 v228 v257 k0_t55) a + S1x1x1x16x128.size a ≤ S2x2x108x128x128.size a := fun v1 k0_t51 v228 v257 k0_hw35 k0_t55 => k0_hw35.2.2.2.2.2.2.2.2.2.1.2.2.2.2.2.2.2.2.2.2.2.1 k0_t55
theorem k0_off2251_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2251 v1 k0_t51 v228 v257 k0_t55) S1x1x1x16x128.size (k0_off2251_inb v1 k0_t51 v228 v257 k0_hw35 k0_t55)).PackedRows (EltTy.packing .bf16) := fun v1 k0_t51 v228 v257 k0_hw35 k0_t55 => k0_hw35.2.2.2.2.2.2.2.2.2.1.2.2.2.2.2.2.2.2.2.2.2.2.1 k0_t55 (k0_off2251_inb v1 k0_t51 v228 v257 k0_hw35 k0_t55)
theorem k0_off2252_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2252 v1 k0_t51 v228 v257 k0_t55) a + S1x1x1x32x128.size a ≤ S2x2x8x1728x128.size a := fun v1 k0_t51 v228 v257 k0_hw35 k0_t55 => k0_hw35.2.2.2.2.2.2.2.2.2.1.2.2.2.2.2.2.2.2.2.2.2.2.2.1 k0_t55
theorem k0_off2254_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2254 v1 k0_t51 v228 v257 k0_t55) a + S1x1x1x16x128.size a ≤ S2x2x108x128x128.size a := fun v1 k0_t51 v228 v257 k0_hw35 k0_t55 => k0_hw35.2.2.2.2.2.2.2.2.2.1.2.2.2.2.2.2.2.2.2.2.2.2.2.2.1 k0_t55
theorem k0_off2254_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2254 v1 k0_t51 v228 v257 k0_t55) S1x1x1x16x128.size (k0_off2254_inb v1 k0_t51 v228 v257 k0_hw35 k0_t55)).PackedRows (EltTy.packing .bf16) := fun v1 k0_t51 v228 v257 k0_hw35 k0_t55 => k0_hw35.2.2.2.2.2.2.2.2.2.1.2.2.2.2.2.2.2.2.2.2.2.2.2.2.2.1 k0_t55 (k0_off2254_inb v1 k0_t51 v228 v257 k0_hw35 k0_t55)
theorem k0_off2256_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2256 v1 k0_t51 v228 v257 k0_t55) a + S1x1x1x16x128.size a ≤ S2x2x108x128x128.size a := fun v1 k0_t51 v228 v257 k0_hw35 k0_t55 => k0_hw35.2.2.2.2.2.2.2.2.2.1.2.2.2.2.2.2.2.2.2.2.2.2.2.2.2.2.1 k0_t55
theorem k0_off2256_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2256 v1 k0_t51 v228 v257 k0_t55) S1x1x1x16x128.size (k0_off2256_inb v1 k0_t51 v228 v257 k0_hw35 k0_t55)).PackedRows (EltTy.packing .bf16) := fun v1 k0_t51 v228 v257 k0_hw35 k0_t55 => k0_hw35.2.2.2.2.2.2.2.2.2.1.2.2.2.2.2.2.2.2.2.2.2.2.2.2.2.2.2.1 k0_t55 (k0_off2256_inb v1 k0_t51 v228 v257 k0_hw35 k0_t55)
theorem k0_off2257_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2257 v1 k0_t51 v228 v257 k0_t55) a + S1x1x1x32x128.size a ≤ S2x2x8x1728x128.size a := fun v1 k0_t51 v228 v257 k0_hw35 k0_t55 => k0_hw35.2.2.2.2.2.2.2.2.2.1.2.2.2.2.2.2.2.2.2.2.2.2.2.2.2.2.2.2.1 k0_t55
theorem k0_off2259_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2259 v1 k0_t51 v228 v257 k0_t55) a + S1x1x1x16x128.size a ≤ S2x2x108x128x128.size a := fun v1 k0_t51 v228 v257 k0_hw35 k0_t55 => k0_hw35.2.2.2.2.2.2.2.2.2.1.2.2.2.2.2.2.2.2.2.2.2.2.2.2.2.2.2.2.2.1 k0_t55
theorem k0_off2259_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2259 v1 k0_t51 v228 v257 k0_t55) S1x1x1x16x128.size (k0_off2259_inb v1 k0_t51 v228 v257 k0_hw35 k0_t55)).PackedRows (EltTy.packing .bf16) := fun v1 k0_t51 v228 v257 k0_hw35 k0_t55 => k0_hw35.2.2.2.2.2.2.2.2.2.1.2.2.2.2.2.2.2.2.2.2.2.2.2.2.2.2.2.2.2.2.1 k0_t55 (k0_off2259_inb v1 k0_t51 v228 v257 k0_hw35 k0_t55)
theorem k0_off2261_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2261 v1 k0_t51 v228 v257 k0_t55) a + S1x1x1x16x128.size a ≤ S2x2x108x128x128.size a := fun v1 k0_t51 v228 v257 k0_hw35 k0_t55 => k0_hw35.2.2.2.2.2.2.2.2.2.1.2.2.2.2.2.2.2.2.2.2.2.2.2.2.2.2.2.2.2.2.2.1 k0_t55
theorem k0_off2261_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2261 v1 k0_t51 v228 v257 k0_t55) S1x1x1x16x128.size (k0_off2261_inb v1 k0_t51 v228 v257 k0_hw35 k0_t55)).PackedRows (EltTy.packing .bf16) := fun v1 k0_t51 v228 v257 k0_hw35 k0_t55 => k0_hw35.2.2.2.2.2.2.2.2.2.1.2.2.2.2.2.2.2.2.2.2.2.2.2.2.2.2.2.2.2.2.2.2.1 k0_t55 (k0_off2261_inb v1 k0_t51 v228 v257 k0_hw35 k0_t55)
theorem k0_off2262_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2262 v1 k0_t51 v228 v257 k0_t55) a + S1x1x1x32x128.size a ≤ S2x2x8x1728x128.size a := fun v1 k0_t51 v228 v257 k0_hw35 k0_t55 => k0_hw35.2.2.2.2.2.2.2.2.2.1.2.2.2.2.2.2.2.2.2.2.2.2.2.2.2.2.2.2.2.2.2.2.2.1 k0_t55
theorem k0_off2264_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2264 v1 k0_t51 v228 v257 k0_t55) a + S1x1x1x16x128.size a ≤ S2x2x108x128x128.size a := fun v1 k0_t51 v228 v257 k0_hw35 k0_t55 => k0_hw35.2.2.2.2.2.2.2.2.2.1.2.2.2.2.2.2.2.2.2.2.2.2.2.2.2.2.2.2.2.2.2.2.2.2.1 k0_t55
theorem k0_off2264_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2264 v1 k0_t51 v228 v257 k0_t55) S1x1x1x16x128.size (k0_off2264_inb v1 k0_t51 v228 v257 k0_hw35 k0_t55)).PackedRows (EltTy.packing .bf16) := fun v1 k0_t51 v228 v257 k0_hw35 k0_t55 => k0_hw35.2.2.2.2.2.2.2.2.2.1.2.2.2.2.2.2.2.2.2.2.2.2.2.2.2.2.2.2.2.2.2.2.2.2.2.1 k0_t55 (k0_off2264_inb v1 k0_t51 v228 v257 k0_hw35 k0_t55)
theorem k0_off2266_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2266 v1 k0_t51 v228 v257 k0_t55) a + S1x1x1x16x128.size a ≤ S2x2x108x128x128.size a := fun v1 k0_t51 v228 v257 k0_hw35 k0_t55 => k0_hw35.2.2.2.2.2.2.2.2.2.1.2.2.2.2.2.2.2.2.2.2.2.2.2.2.2.2.2.2.2.2.2.2.2.2.2.2.1 k0_t55
theorem k0_off2266_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2266 v1 k0_t51 v228 v257 k0_t55) S1x1x1x16x128.size (k0_off2266_inb v1 k0_t51 v228 v257 k0_hw35 k0_t55)).PackedRows (EltTy.packing .bf16) := fun v1 k0_t51 v228 v257 k0_hw35 k0_t55 => k0_hw35.2.2.2.2.2.2.2.2.2.1.2.2.2.2.2.2.2.2.2.2.2.2.2.2.2.2.2.2.2.2.2.2.2.2.2.2.2.1 k0_t55 (k0_off2266_inb v1 k0_t51 v228 v257 k0_hw35 k0_t55)
theorem k0_off2267_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2267 v1 k0_t51 v228 v257 k0_t55) a + S1x1x1x32x128.size a ≤ S2x2x8x1728x128.size a := fun v1 k0_t51 v228 v257 k0_hw35 k0_t55 => k0_hw35.2.2.2.2.2.2.2.2.2.1.2.2.2.2.2.2.2.2.2.2.2.2.2.2.2.2.2.2.2.2.2.2.2.2.2.2.2.2.1 k0_t55
theorem k0_off2269_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2269 v1 k0_t51 v228 v257 k0_t55) a + S1x1x1x16x128.size a ≤ S2x2x108x128x128.size a := fun v1 k0_t51 v228 v257 k0_hw35 k0_t55 => k0_hw35.2.2.2.2.2.2.2.2.2.1.2.2.2.2.2.2.2.2.2.2.2.2.2.2.2.2.2.2.2.2.2.2.2.2.2.2.2.2.2.1 k0_t55
theorem k0_off2269_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2269 v1 k0_t51 v228 v257 k0_t55) S1x1x1x16x128.size (k0_off2269_inb v1 k0_t51 v228 v257 k0_hw35 k0_t55)).PackedRows (EltTy.packing .bf16) := fun v1 k0_t51 v228 v257 k0_hw35 k0_t55 => k0_hw35.2.2.2.2.2.2.2.2.2.1.2.2.2.2.2.2.2.2.2.2.2.2.2.2.2.2.2.2.2.2.2.2.2.2.2.2.2.2.2.2.1 k0_t55 (k0_off2269_inb v1 k0_t51 v228 v257 k0_hw35 k0_t55)
theorem k0_off2271_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2271 v1 k0_t51 v228 v257 k0_t55) a + S1x1x1x16x128.size a ≤ S2x2x108x128x128.size a := fun v1 k0_t51 v228 v257 k0_hw35 k0_t55 => k0_hw35.2.2.2.2.2.2.2.2.2.1.2.2.2.2.2.2.2.2.2.2.2.2.2.2.2.2.2.2.2.2.2.2.2.2.2.2.2.2.2.2.2 k0_t55
theorem k0_off2271_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2271 v1 k0_t51 v228 v257 k0_t55) S1x1x1x16x128.size (k0_off2271_inb v1 k0_t51 v228 v257 k0_hw35 k0_t55)).PackedRows (EltTy.packing .bf16) := fun v1 k0_t51 v228 v257 k0_hw35 k0_t55 => k0_hw35.2.2.2.2.2.2.2.2.2.2.1.1 k0_t55 (k0_off2271_inb v1 k0_t51 v228 v257 k0_hw35 k0_t55)
theorem k0_off2272_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2272 v1 k0_t51 v228 v257 k0_t55) a + S1x1x1x32x128.size a ≤ S2x2x8x1728x128.size a := fun v1 k0_t51 v228 v257 k0_hw35 k0_t55 => k0_hw35.2.2.2.2.2.2.2.2.2.2.1.2.1 k0_t55
theorem k0_off2274_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2274 v1 k0_t51 v228 v257 k0_t55) a + S1x1x1x16x128.size a ≤ S2x2x108x128x128.size a := fun v1 k0_t51 v228 v257 k0_hw35 k0_t55 => k0_hw35.2.2.2.2.2.2.2.2.2.2.1.2.2.1 k0_t55
theorem k0_off2274_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2274 v1 k0_t51 v228 v257 k0_t55) S1x1x1x16x128.size (k0_off2274_inb v1 k0_t51 v228 v257 k0_hw35 k0_t55)).PackedRows (EltTy.packing .bf16) := fun v1 k0_t51 v228 v257 k0_hw35 k0_t55 => k0_hw35.2.2.2.2.2.2.2.2.2.2.1.2.2.2.1 k0_t55 (k0_off2274_inb v1 k0_t51 v228 v257 k0_hw35 k0_t55)
theorem k0_off2276_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2276 v1 k0_t51 v228 v257 k0_t55) a + S1x1x1x16x128.size a ≤ S2x2x108x128x128.size a := fun v1 k0_t51 v228 v257 k0_hw35 k0_t55 => k0_hw35.2.2.2.2.2.2.2.2.2.2.1.2.2.2.2.1 k0_t55
theorem k0_off2276_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2276 v1 k0_t51 v228 v257 k0_t55) S1x1x1x16x128.size (k0_off2276_inb v1 k0_t51 v228 v257 k0_hw35 k0_t55)).PackedRows (EltTy.packing .bf16) := fun v1 k0_t51 v228 v257 k0_hw35 k0_t55 => k0_hw35.2.2.2.2.2.2.2.2.2.2.1.2.2.2.2.2.1 k0_t55 (k0_off2276_inb v1 k0_t51 v228 v257 k0_hw35 k0_t55)
theorem k0_off2277_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2277 v1 k0_t51 v228 v257 k0_t55) a + S1x1x1x32x128.size a ≤ S2x2x8x1728x128.size a := fun v1 k0_t51 v228 v257 k0_hw35 k0_t55 => k0_hw35.2.2.2.2.2.2.2.2.2.2.1.2.2.2.2.2.2.1 k0_t55
theorem k0_off2279_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2279 v1 k0_t51 v228 v257 k0_t55) a + S1x1x1x16x128.size a ≤ S2x2x108x128x128.size a := fun v1 k0_t51 v228 v257 k0_hw35 k0_t55 => k0_hw35.2.2.2.2.2.2.2.2.2.2.1.2.2.2.2.2.2.2.1 k0_t55
theorem k0_off2279_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2279 v1 k0_t51 v228 v257 k0_t55) S1x1x1x16x128.size (k0_off2279_inb v1 k0_t51 v228 v257 k0_hw35 k0_t55)).PackedRows (EltTy.packing .bf16) := fun v1 k0_t51 v228 v257 k0_hw35 k0_t55 => k0_hw35.2.2.2.2.2.2.2.2.2.2.1.2.2.2.2.2.2.2.2.1 k0_t55 (k0_off2279_inb v1 k0_t51 v228 v257 k0_hw35 k0_t55)
theorem k0_off2281_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2281 v1 k0_t51 v228 v257 k0_t55) a + S1x1x1x16x128.size a ≤ S2x2x108x128x128.size a := fun v1 k0_t51 v228 v257 k0_hw35 k0_t55 => k0_hw35.2.2.2.2.2.2.2.2.2.2.1.2.2.2.2.2.2.2.2.2.1 k0_t55
theorem k0_off2281_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2281 v1 k0_t51 v228 v257 k0_t55) S1x1x1x16x128.size (k0_off2281_inb v1 k0_t51 v228 v257 k0_hw35 k0_t55)).PackedRows (EltTy.packing .bf16) := fun v1 k0_t51 v228 v257 k0_hw35 k0_t55 => k0_hw35.2.2.2.2.2.2.2.2.2.2.1.2.2.2.2.2.2.2.2.2.2.1 k0_t55 (k0_off2281_inb v1 k0_t51 v228 v257 k0_hw35 k0_t55)
theorem k0_off2282_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2282 v1 k0_t51 v228 v257 k0_t55) a + S1x1x1x32x128.size a ≤ S2x2x8x1728x128.size a := fun v1 k0_t51 v228 v257 k0_hw35 k0_t55 => k0_hw35.2.2.2.2.2.2.2.2.2.2.1.2.2.2.2.2.2.2.2.2.2.2.1 k0_t55
theorem k0_off2284_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2284 v1 k0_t51 v228 v257 k0_t55) a + S1x1x1x16x128.size a ≤ S2x2x108x128x128.size a := fun v1 k0_t51 v228 v257 k0_hw35 k0_t55 => k0_hw35.2.2.2.2.2.2.2.2.2.2.1.2.2.2.2.2.2.2.2.2.2.2.2.1 k0_t55
theorem k0_off2284_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2284 v1 k0_t51 v228 v257 k0_t55) S1x1x1x16x128.size (k0_off2284_inb v1 k0_t51 v228 v257 k0_hw35 k0_t55)).PackedRows (EltTy.packing .bf16) := fun v1 k0_t51 v228 v257 k0_hw35 k0_t55 => k0_hw35.2.2.2.2.2.2.2.2.2.2.1.2.2.2.2.2.2.2.2.2.2.2.2.2.1 k0_t55 (k0_off2284_inb v1 k0_t51 v228 v257 k0_hw35 k0_t55)
theorem k0_off2286_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2286 v1 k0_t51 v228 v257 k0_t55) a + S1x1x1x16x128.size a ≤ S2x2x108x128x128.size a := fun v1 k0_t51 v228 v257 k0_hw35 k0_t55 => k0_hw35.2.2.2.2.2.2.2.2.2.2.1.2.2.2.2.2.2.2.2.2.2.2.2.2.2.1 k0_t55
theorem k0_off2286_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2286 v1 k0_t51 v228 v257 k0_t55) S1x1x1x16x128.size (k0_off2286_inb v1 k0_t51 v228 v257 k0_hw35 k0_t55)).PackedRows (EltTy.packing .bf16) := fun v1 k0_t51 v228 v257 k0_hw35 k0_t55 => k0_hw35.2.2.2.2.2.2.2.2.2.2.1.2.2.2.2.2.2.2.2.2.2.2.2.2.2.2.1 k0_t55 (k0_off2286_inb v1 k0_t51 v228 v257 k0_hw35 k0_t55)
theorem k0_off2287_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2287 v1 k0_t51 v228 v257 k0_t55) a + S1x1x1x32x128.size a ≤ S2x2x8x1728x128.size a := fun v1 k0_t51 v228 v257 k0_hw35 k0_t55 => k0_hw35.2.2.2.2.2.2.2.2.2.2.1.2.2.2.2.2.2.2.2.2.2.2.2.2.2.2.2.1 k0_t55
theorem k0_off2289_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2289 v1 k0_t51 v228 v257 k0_t55) a + S1x1x1x16x128.size a ≤ S2x2x108x128x128.size a := fun v1 k0_t51 v228 v257 k0_hw35 k0_t55 => k0_hw35.2.2.2.2.2.2.2.2.2.2.1.2.2.2.2.2.2.2.2.2.2.2.2.2.2.2.2.2.1 k0_t55
theorem k0_off2289_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2289 v1 k0_t51 v228 v257 k0_t55) S1x1x1x16x128.size (k0_off2289_inb v1 k0_t51 v228 v257 k0_hw35 k0_t55)).PackedRows (EltTy.packing .bf16) := fun v1 k0_t51 v228 v257 k0_hw35 k0_t55 => k0_hw35.2.2.2.2.2.2.2.2.2.2.1.2.2.2.2.2.2.2.2.2.2.2.2.2.2.2.2.2.2.1 k0_t55 (k0_off2289_inb v1 k0_t51 v228 v257 k0_hw35 k0_t55)
theorem k0_off2291_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2291 v1 k0_t51 v228 v257 k0_t55) a + S1x1x1x16x128.size a ≤ S2x2x108x128x128.size a := fun v1 k0_t51 v228 v257 k0_hw35 k0_t55 => k0_hw35.2.2.2.2.2.2.2.2.2.2.1.2.2.2.2.2.2.2.2.2.2.2.2.2.2.2.2.2.2.2.1 k0_t55
theorem k0_off2291_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2291 v1 k0_t51 v228 v257 k0_t55) S1x1x1x16x128.size (k0_off2291_inb v1 k0_t51 v228 v257 k0_hw35 k0_t55)).PackedRows (EltTy.packing .bf16) := fun v1 k0_t51 v228 v257 k0_hw35 k0_t55 => k0_hw35.2.2.2.2.2.2.2.2.2.2.1.2.2.2.2.2.2.2.2.2.2.2.2.2.2.2.2.2.2.2.2.1 k0_t55 (k0_off2291_inb v1 k0_t51 v228 v257 k0_hw35 k0_t55)
theorem k0_off2292_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2292 v1 k0_t51 v228 v257 k0_t55) a + S1x1x1x32x128.size a ≤ S2x2x8x1728x128.size a := fun v1 k0_t51 v228 v257 k0_hw35 k0_t55 => k0_hw35.2.2.2.2.2.2.2.2.2.2.1.2.2.2.2.2.2.2.2.2.2.2.2.2.2.2.2.2.2.2.2.2.1 k0_t55
theorem k0_off2294_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2294 v1 k0_t51 v228 v257 k0_t55) a + S1x1x1x16x128.size a ≤ S2x2x108x128x128.size a := fun v1 k0_t51 v228 v257 k0_hw35 k0_t55 => k0_hw35.2.2.2.2.2.2.2.2.2.2.1.2.2.2.2.2.2.2.2.2.2.2.2.2.2.2.2.2.2.2.2.2.2.1 k0_t55
theorem k0_off2294_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2294 v1 k0_t51 v228 v257 k0_t55) S1x1x1x16x128.size (k0_off2294_inb v1 k0_t51 v228 v257 k0_hw35 k0_t55)).PackedRows (EltTy.packing .bf16) := fun v1 k0_t51 v228 v257 k0_hw35 k0_t55 => k0_hw35.2.2.2.2.2.2.2.2.2.2.1.2.2.2.2.2.2.2.2.2.2.2.2.2.2.2.2.2.2.2.2.2.2.2.1 k0_t55 (k0_off2294_inb v1 k0_t51 v228 v257 k0_hw35 k0_t55)
theorem k0_off2296_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2296 v1 k0_t51 v228 v257 k0_t55) a + S1x1x1x16x128.size a ≤ S2x2x108x128x128.size a := fun v1 k0_t51 v228 v257 k0_hw35 k0_t55 => k0_hw35.2.2.2.2.2.2.2.2.2.2.1.2.2.2.2.2.2.2.2.2.2.2.2.2.2.2.2.2.2.2.2.2.2.2.2.1 k0_t55
theorem k0_off2296_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2296 v1 k0_t51 v228 v257 k0_t55) S1x1x1x16x128.size (k0_off2296_inb v1 k0_t51 v228 v257 k0_hw35 k0_t55)).PackedRows (EltTy.packing .bf16) := fun v1 k0_t51 v228 v257 k0_hw35 k0_t55 => k0_hw35.2.2.2.2.2.2.2.2.2.2.1.2.2.2.2.2.2.2.2.2.2.2.2.2.2.2.2.2.2.2.2.2.2.2.2.2.1 k0_t55 (k0_off2296_inb v1 k0_t51 v228 v257 k0_hw35 k0_t55)
theorem k0_off2297_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2297 v1 k0_t51 v228 v257 k0_t55) a + S1x1x1x32x128.size a ≤ S2x2x8x1728x128.size a := fun v1 k0_t51 v228 v257 k0_hw35 k0_t55 => k0_hw35.2.2.2.2.2.2.2.2.2.2.1.2.2.2.2.2.2.2.2.2.2.2.2.2.2.2.2.2.2.2.2.2.2.2.2.2.2.1 k0_t55
theorem k0_off2299_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2299 v1 k0_t51 v228 v257 k0_t55) a + S1x1x1x16x128.size a ≤ S2x2x108x128x128.size a := fun v1 k0_t51 v228 v257 k0_hw35 k0_t55 => k0_hw35.2.2.2.2.2.2.2.2.2.2.1.2.2.2.2.2.2.2.2.2.2.2.2.2.2.2.2.2.2.2.2.2.2.2.2.2.2.2.1 k0_t55
theorem k0_off2299_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2299 v1 k0_t51 v228 v257 k0_t55) S1x1x1x16x128.size (k0_off2299_inb v1 k0_t51 v228 v257 k0_hw35 k0_t55)).PackedRows (EltTy.packing .bf16) := fun v1 k0_t51 v228 v257 k0_hw35 k0_t55 => k0_hw35.2.2.2.2.2.2.2.2.2.2.1.2.2.2.2.2.2.2.2.2.2.2.2.2.2.2.2.2.2.2.2.2.2.2.2.2.2.2.2.1 k0_t55 (k0_off2299_inb v1 k0_t51 v228 v257 k0_hw35 k0_t55)
theorem k0_off2301_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2301 v1 k0_t51 v228 v257 k0_t55) a + S1x1x1x16x128.size a ≤ S2x2x108x128x128.size a := fun v1 k0_t51 v228 v257 k0_hw35 k0_t55 => k0_hw35.2.2.2.2.2.2.2.2.2.2.1.2.2.2.2.2.2.2.2.2.2.2.2.2.2.2.2.2.2.2.2.2.2.2.2.2.2.2.2.2.1 k0_t55
theorem k0_off2301_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2301 v1 k0_t51 v228 v257 k0_t55) S1x1x1x16x128.size (k0_off2301_inb v1 k0_t51 v228 v257 k0_hw35 k0_t55)).PackedRows (EltTy.packing .bf16) := fun v1 k0_t51 v228 v257 k0_hw35 k0_t55 => k0_hw35.2.2.2.2.2.2.2.2.2.2.1.2.2.2.2.2.2.2.2.2.2.2.2.2.2.2.2.2.2.2.2.2.2.2.2.2.2.2.2.2.2.1 k0_t55 (k0_off2301_inb v1 k0_t51 v228 v257 k0_hw35 k0_t55)
theorem k0_off2302_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2302 v1 k0_t51 v228 v257 k0_t55) a + S1x1x1x32x128.size a ≤ S2x2x8x1728x128.size a := fun v1 k0_t51 v228 v257 k0_hw35 k0_t55 => k0_hw35.2.2.2.2.2.2.2.2.2.2.1.2.2.2.2.2.2.2.2.2.2.2.2.2.2.2.2.2.2.2.2.2.2.2.2.2.2.2.2.2.2.2 k0_t55
theorem k0_off2304_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2304 v1 k0_t51 v228 v257 k0_t55) a + S1x1x1x16x128.size a ≤ S2x2x108x128x128.size a := fun v1 k0_t51 v228 v257 k0_hw35 k0_t55 => k0_hw35.2.2.2.2.2.2.2.2.2.2.2.1.1 k0_t55
theorem k0_off2304_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2304 v1 k0_t51 v228 v257 k0_t55) S1x1x1x16x128.size (k0_off2304_inb v1 k0_t51 v228 v257 k0_hw35 k0_t55)).PackedRows (EltTy.packing .bf16) := fun v1 k0_t51 v228 v257 k0_hw35 k0_t55 => k0_hw35.2.2.2.2.2.2.2.2.2.2.2.1.2.1 k0_t55 (k0_off2304_inb v1 k0_t51 v228 v257 k0_hw35 k0_t55)
theorem k0_off2306_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2306 v1 k0_t51 v228 v257 k0_t55) a + S1x1x1x16x128.size a ≤ S2x2x108x128x128.size a := fun v1 k0_t51 v228 v257 k0_hw35 k0_t55 => k0_hw35.2.2.2.2.2.2.2.2.2.2.2.1.2.2.1 k0_t55
theorem k0_off2306_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2306 v1 k0_t51 v228 v257 k0_t55) S1x1x1x16x128.size (k0_off2306_inb v1 k0_t51 v228 v257 k0_hw35 k0_t55)).PackedRows (EltTy.packing .bf16) := fun v1 k0_t51 v228 v257 k0_hw35 k0_t55 => k0_hw35.2.2.2.2.2.2.2.2.2.2.2.1.2.2.2.1 k0_t55 (k0_off2306_inb v1 k0_t51 v228 v257 k0_hw35 k0_t55)
theorem k0_off2307_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2307 v1 k0_t51 v228 v257 k0_t55) a + S1x1x1x32x128.size a ≤ S2x2x8x1728x128.size a := fun v1 k0_t51 v228 v257 k0_hw35 k0_t55 => k0_hw35.2.2.2.2.2.2.2.2.2.2.2.1.2.2.2.2.1 k0_t55
theorem k0_off2309_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2309 v1 k0_t51 v228 v257 k0_t55) a + S1x1x1x16x128.size a ≤ S2x2x108x128x128.size a := fun v1 k0_t51 v228 v257 k0_hw35 k0_t55 => k0_hw35.2.2.2.2.2.2.2.2.2.2.2.1.2.2.2.2.2.1 k0_t55
theorem k0_off2309_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2309 v1 k0_t51 v228 v257 k0_t55) S1x1x1x16x128.size (k0_off2309_inb v1 k0_t51 v228 v257 k0_hw35 k0_t55)).PackedRows (EltTy.packing .bf16) := fun v1 k0_t51 v228 v257 k0_hw35 k0_t55 => k0_hw35.2.2.2.2.2.2.2.2.2.2.2.1.2.2.2.2.2.2.1 k0_t55 (k0_off2309_inb v1 k0_t51 v228 v257 k0_hw35 k0_t55)
theorem k0_off2311_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2311 v1 k0_t51 v228 v257 k0_t55) a + S1x1x1x16x128.size a ≤ S2x2x108x128x128.size a := fun v1 k0_t51 v228 v257 k0_hw35 k0_t55 => k0_hw35.2.2.2.2.2.2.2.2.2.2.2.1.2.2.2.2.2.2.2.1 k0_t55
theorem k0_off2311_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2311 v1 k0_t51 v228 v257 k0_t55) S1x1x1x16x128.size (k0_off2311_inb v1 k0_t51 v228 v257 k0_hw35 k0_t55)).PackedRows (EltTy.packing .bf16) := fun v1 k0_t51 v228 v257 k0_hw35 k0_t55 => k0_hw35.2.2.2.2.2.2.2.2.2.2.2.1.2.2.2.2.2.2.2.2.1 k0_t55 (k0_off2311_inb v1 k0_t51 v228 v257 k0_hw35 k0_t55)
theorem k0_off2312_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2312 v1 k0_t51 v228 v257 k0_t55) a + S1x1x1x32x128.size a ≤ S2x2x8x1728x128.size a := fun v1 k0_t51 v228 v257 k0_hw35 k0_t55 => k0_hw35.2.2.2.2.2.2.2.2.2.2.2.1.2.2.2.2.2.2.2.2.2.1 k0_t55
theorem k0_off2314_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2314 v1 k0_t51 v228 v257 k0_t55) a + S1x1x1x16x128.size a ≤ S2x2x108x128x128.size a := fun v1 k0_t51 v228 v257 k0_hw35 k0_t55 => k0_hw35.2.2.2.2.2.2.2.2.2.2.2.1.2.2.2.2.2.2.2.2.2.2.1 k0_t55
theorem k0_off2314_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2314 v1 k0_t51 v228 v257 k0_t55) S1x1x1x16x128.size (k0_off2314_inb v1 k0_t51 v228 v257 k0_hw35 k0_t55)).PackedRows (EltTy.packing .bf16) := fun v1 k0_t51 v228 v257 k0_hw35 k0_t55 => k0_hw35.2.2.2.2.2.2.2.2.2.2.2.1.2.2.2.2.2.2.2.2.2.2.2.1 k0_t55 (k0_off2314_inb v1 k0_t51 v228 v257 k0_hw35 k0_t55)
theorem k0_off2316_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2316 v1 k0_t51 v228 v257 k0_t55) a + S1x1x1x16x128.size a ≤ S2x2x108x128x128.size a := fun v1 k0_t51 v228 v257 k0_hw35 k0_t55 => k0_hw35.2.2.2.2.2.2.2.2.2.2.2.1.2.2.2.2.2.2.2.2.2.2.2.2.1 k0_t55
theorem k0_off2316_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2316 v1 k0_t51 v228 v257 k0_t55) S1x1x1x16x128.size (k0_off2316_inb v1 k0_t51 v228 v257 k0_hw35 k0_t55)).PackedRows (EltTy.packing .bf16) := fun v1 k0_t51 v228 v257 k0_hw35 k0_t55 => k0_hw35.2.2.2.2.2.2.2.2.2.2.2.1.2.2.2.2.2.2.2.2.2.2.2.2.2.1 k0_t55 (k0_off2316_inb v1 k0_t51 v228 v257 k0_hw35 k0_t55)
theorem k0_off2317_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2317 v1 k0_t51 v228 v257 k0_t55) a + S1x1x1x32x128.size a ≤ S2x2x8x1728x128.size a := fun v1 k0_t51 v228 v257 k0_hw35 k0_t55 => k0_hw35.2.2.2.2.2.2.2.2.2.2.2.1.2.2.2.2.2.2.2.2.2.2.2.2.2.2.1 k0_t55
theorem k0_off2319_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2319 v1 k0_t51 v228 v257 k0_t55) a + S1x1x1x16x128.size a ≤ S2x2x108x128x128.size a := fun v1 k0_t51 v228 v257 k0_hw35 k0_t55 => k0_hw35.2.2.2.2.2.2.2.2.2.2.2.1.2.2.2.2.2.2.2.2.2.2.2.2.2.2.2.1 k0_t55
theorem k0_off2319_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2319 v1 k0_t51 v228 v257 k0_t55) S1x1x1x16x128.size (k0_off2319_inb v1 k0_t51 v228 v257 k0_hw35 k0_t55)).PackedRows (EltTy.packing .bf16) := fun v1 k0_t51 v228 v257 k0_hw35 k0_t55 => k0_hw35.2.2.2.2.2.2.2.2.2.2.2.1.2.2.2.2.2.2.2.2.2.2.2.2.2.2.2.2.1 k0_t55 (k0_off2319_inb v1 k0_t51 v228 v257 k0_hw35 k0_t55)
theorem k0_off2321_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2321 v1 k0_t51 v228 v257 k0_t55) a + S1x1x1x16x128.size a ≤ S2x2x108x128x128.size a := fun v1 k0_t51 v228 v257 k0_hw35 k0_t55 => k0_hw35.2.2.2.2.2.2.2.2.2.2.2.1.2.2.2.2.2.2.2.2.2.2.2.2.2.2.2.2.2.1 k0_t55
theorem k0_off2321_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2321 v1 k0_t51 v228 v257 k0_t55) S1x1x1x16x128.size (k0_off2321_inb v1 k0_t51 v228 v257 k0_hw35 k0_t55)).PackedRows (EltTy.packing .bf16) := fun v1 k0_t51 v228 v257 k0_hw35 k0_t55 => k0_hw35.2.2.2.2.2.2.2.2.2.2.2.1.2.2.2.2.2.2.2.2.2.2.2.2.2.2.2.2.2.2.1 k0_t55 (k0_off2321_inb v1 k0_t51 v228 v257 k0_hw35 k0_t55)
theorem k0_off2322_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2322 v1 k0_t51 v228 v257 k0_t55) a + S1x1x1x32x128.size a ≤ S2x2x8x1728x128.size a := fun v1 k0_t51 v228 v257 k0_hw35 k0_t55 => k0_hw35.2.2.2.2.2.2.2.2.2.2.2.1.2.2.2.2.2.2.2.2.2.2.2.2.2.2.2.2.2.2.2.1 k0_t55
theorem k0_off2324_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2324 v1 k0_t51 v228 v257 k0_t55) a + S1x1x1x16x128.size a ≤ S2x2x108x128x128.size a := fun v1 k0_t51 v228 v257 k0_hw35 k0_t55 => k0_hw35.2.2.2.2.2.2.2.2.2.2.2.1.2.2.2.2.2.2.2.2.2.2.2.2.2.2.2.2.2.2.2.2.1 k0_t55
theorem k0_off2324_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2324 v1 k0_t51 v228 v257 k0_t55) S1x1x1x16x128.size (k0_off2324_inb v1 k0_t51 v228 v257 k0_hw35 k0_t55)).PackedRows (EltTy.packing .bf16) := fun v1 k0_t51 v228 v257 k0_hw35 k0_t55 => k0_hw35.2.2.2.2.2.2.2.2.2.2.2.1.2.2.2.2.2.2.2.2.2.2.2.2.2.2.2.2.2.2.2.2.2.1 k0_t55 (k0_off2324_inb v1 k0_t51 v228 v257 k0_hw35 k0_t55)
theorem k0_off2326_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2326 v1 k0_t51 v228 v257 k0_t55) a + S1x1x1x16x128.size a ≤ S2x2x108x128x128.size a := fun v1 k0_t51 v228 v257 k0_hw35 k0_t55 => k0_hw35.2.2.2.2.2.2.2.2.2.2.2.1.2.2.2.2.2.2.2.2.2.2.2.2.2.2.2.2.2.2.2.2.2.2.1 k0_t55
theorem k0_off2326_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2326 v1 k0_t51 v228 v257 k0_t55) S1x1x1x16x128.size (k0_off2326_inb v1 k0_t51 v228 v257 k0_hw35 k0_t55)).PackedRows (EltTy.packing .bf16) := fun v1 k0_t51 v228 v257 k0_hw35 k0_t55 => k0_hw35.2.2.2.2.2.2.2.2.2.2.2.1.2.2.2.2.2.2.2.2.2.2.2.2.2.2.2.2.2.2.2.2.2.2.2.1 k0_t55 (k0_off2326_inb v1 k0_t51 v228 v257 k0_hw35 k0_t55)
theorem k0_off2327_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2327 v1 k0_t51 v228 v257 k0_t55) a + S1x1x1x32x128.size a ≤ S2x2x8x1728x128.size a := fun v1 k0_t51 v228 v257 k0_hw35 k0_t55 => k0_hw35.2.2.2.2.2.2.2.2.2.2.2.1.2.2.2.2.2.2.2.2.2.2.2.2.2.2.2.2.2.2.2.2.2.2.2.2.1 k0_t55
theorem k0_off2329_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2329 v1 k0_t51 v228 v257 k0_t55) a + S1x1x1x16x128.size a ≤ S2x2x108x128x128.size a := fun v1 k0_t51 v228 v257 k0_hw35 k0_t55 => k0_hw35.2.2.2.2.2.2.2.2.2.2.2.1.2.2.2.2.2.2.2.2.2.2.2.2.2.2.2.2.2.2.2.2.2.2.2.2.2.1 k0_t55
theorem k0_off2329_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2329 v1 k0_t51 v228 v257 k0_t55) S1x1x1x16x128.size (k0_off2329_inb v1 k0_t51 v228 v257 k0_hw35 k0_t55)).PackedRows (EltTy.packing .bf16) := fun v1 k0_t51 v228 v257 k0_hw35 k0_t55 => k0_hw35.2.2.2.2.2.2.2.2.2.2.2.1.2.2.2.2.2.2.2.2.2.2.2.2.2.2.2.2.2.2.2.2.2.2.2.2.2.2.1 k0_t55 (k0_off2329_inb v1 k0_t51 v228 v257 k0_hw35 k0_t55)
theorem k0_off2331_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2331 v1 k0_t51 v228 v257 k0_t55) a + S1x1x1x16x128.size a ≤ S2x2x108x128x128.size a := fun v1 k0_t51 v228 v257 k0_hw35 k0_t55 => k0_hw35.2.2.2.2.2.2.2.2.2.2.2.1.2.2.2.2.2.2.2.2.2.2.2.2.2.2.2.2.2.2.2.2.2.2.2.2.2.2.2.1 k0_t55
theorem k0_off2331_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2331 v1 k0_t51 v228 v257 k0_t55) S1x1x1x16x128.size (k0_off2331_inb v1 k0_t51 v228 v257 k0_hw35 k0_t55)).PackedRows (EltTy.packing .bf16) := fun v1 k0_t51 v228 v257 k0_hw35 k0_t55 => k0_hw35.2.2.2.2.2.2.2.2.2.2.2.1.2.2.2.2.2.2.2.2.2.2.2.2.2.2.2.2.2.2.2.2.2.2.2.2.2.2.2.2.1 k0_t55 (k0_off2331_inb v1 k0_t51 v228 v257 k0_hw35 k0_t55)
theorem k0_off2332_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2332 v1 k0_t51 v228 v257 k0_t55) a + S1x1x1x32x128.size a ≤ S2x2x8x1728x128.size a := fun v1 k0_t51 v228 v257 k0_hw35 k0_t55 => k0_hw35.2.2.2.2.2.2.2.2.2.2.2.1.2.2.2.2.2.2.2.2.2.2.2.2.2.2.2.2.2.2.2.2.2.2.2.2.2.2.2.2.2.1 k0_t55
theorem k0_off2334_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2334 v1 k0_t51 v228 v257 k0_t55) a + S1x1x1x16x128.size a ≤ S2x2x108x128x128.size a := fun v1 k0_t51 v228 v257 k0_hw35 k0_t55 => k0_hw35.2.2.2.2.2.2.2.2.2.2.2.1.2.2.2.2.2.2.2.2.2.2.2.2.2.2.2.2.2.2.2.2.2.2.2.2.2.2.2.2.2.2.1 k0_t55
theorem k0_off2334_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2334 v1 k0_t51 v228 v257 k0_t55) S1x1x1x16x128.size (k0_off2334_inb v1 k0_t51 v228 v257 k0_hw35 k0_t55)).PackedRows (EltTy.packing .bf16) := fun v1 k0_t51 v228 v257 k0_hw35 k0_t55 => k0_hw35.2.2.2.2.2.2.2.2.2.2.2.1.2.2.2.2.2.2.2.2.2.2.2.2.2.2.2.2.2.2.2.2.2.2.2.2.2.2.2.2.2.2.2 k0_t55 (k0_off2334_inb v1 k0_t51 v228 v257 k0_hw35 k0_t55)
theorem k0_off2336_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2336 v1 k0_t51 v228 v257 k0_t55) a + S1x1x1x16x128.size a ≤ S2x2x108x128x128.size a := fun v1 k0_t51 v228 v257 k0_hw35 k0_t55 => k0_hw35.2.2.2.2.2.2.2.2.2.2.2.2.1.1 k0_t55
theorem k0_off2336_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2336 v1 k0_t51 v228 v257 k0_t55) S1x1x1x16x128.size (k0_off2336_inb v1 k0_t51 v228 v257 k0_hw35 k0_t55)).PackedRows (EltTy.packing .bf16) := fun v1 k0_t51 v228 v257 k0_hw35 k0_t55 => k0_hw35.2.2.2.2.2.2.2.2.2.2.2.2.1.2.1 k0_t55 (k0_off2336_inb v1 k0_t51 v228 v257 k0_hw35 k0_t55)
theorem k0_off2337_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2337 v1 k0_t51 v228 v257 k0_t55) a + S1x1x1x32x128.size a ≤ S2x2x8x1728x128.size a := fun v1 k0_t51 v228 v257 k0_hw35 k0_t55 => k0_hw35.2.2.2.2.2.2.2.2.2.2.2.2.1.2.2.1 k0_t55
theorem k0_off2339_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2339 v1 k0_t51 v228 v257 k0_t55) a + S1x1x1x16x128.size a ≤ S2x2x108x128x128.size a := fun v1 k0_t51 v228 v257 k0_hw35 k0_t55 => k0_hw35.2.2.2.2.2.2.2.2.2.2.2.2.1.2.2.2.1 k0_t55
theorem k0_off2339_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2339 v1 k0_t51 v228 v257 k0_t55) S1x1x1x16x128.size (k0_off2339_inb v1 k0_t51 v228 v257 k0_hw35 k0_t55)).PackedRows (EltTy.packing .bf16) := fun v1 k0_t51 v228 v257 k0_hw35 k0_t55 => k0_hw35.2.2.2.2.2.2.2.2.2.2.2.2.1.2.2.2.2.1 k0_t55 (k0_off2339_inb v1 k0_t51 v228 v257 k0_hw35 k0_t55)
theorem k0_off2341_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2341 v1 k0_t51 v228 v257 k0_t55) a + S1x1x1x16x128.size a ≤ S2x2x108x128x128.size a := fun v1 k0_t51 v228 v257 k0_hw35 k0_t55 => k0_hw35.2.2.2.2.2.2.2.2.2.2.2.2.1.2.2.2.2.2.1 k0_t55
theorem k0_off2341_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2341 v1 k0_t51 v228 v257 k0_t55) S1x1x1x16x128.size (k0_off2341_inb v1 k0_t51 v228 v257 k0_hw35 k0_t55)).PackedRows (EltTy.packing .bf16) := fun v1 k0_t51 v228 v257 k0_hw35 k0_t55 => k0_hw35.2.2.2.2.2.2.2.2.2.2.2.2.1.2.2.2.2.2.2.1 k0_t55 (k0_off2341_inb v1 k0_t51 v228 v257 k0_hw35 k0_t55)
theorem k0_off2342_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2342 v1 k0_t51 v228 v257 k0_t55) a + S1x1x1x32x128.size a ≤ S2x2x8x1728x128.size a := fun v1 k0_t51 v228 v257 k0_hw35 k0_t55 => k0_hw35.2.2.2.2.2.2.2.2.2.2.2.2.1.2.2.2.2.2.2.2.1 k0_t55
theorem k0_off2344_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2344 v1 k0_t51 v228 v257 k0_t55) a + S1x1x1x16x128.size a ≤ S2x2x108x128x128.size a := fun v1 k0_t51 v228 v257 k0_hw35 k0_t55 => k0_hw35.2.2.2.2.2.2.2.2.2.2.2.2.1.2.2.2.2.2.2.2.2.1 k0_t55
theorem k0_off2344_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2344 v1 k0_t51 v228 v257 k0_t55) S1x1x1x16x128.size (k0_off2344_inb v1 k0_t51 v228 v257 k0_hw35 k0_t55)).PackedRows (EltTy.packing .bf16) := fun v1 k0_t51 v228 v257 k0_hw35 k0_t55 => k0_hw35.2.2.2.2.2.2.2.2.2.2.2.2.1.2.2.2.2.2.2.2.2.2.1 k0_t55 (k0_off2344_inb v1 k0_t51 v228 v257 k0_hw35 k0_t55)
theorem k0_off2346_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2346 v1 k0_t51 v228 v257 k0_t55) a + S1x1x1x16x128.size a ≤ S2x2x108x128x128.size a := fun v1 k0_t51 v228 v257 k0_hw35 k0_t55 => k0_hw35.2.2.2.2.2.2.2.2.2.2.2.2.1.2.2.2.2.2.2.2.2.2.2.1 k0_t55
theorem k0_off2346_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2346 v1 k0_t51 v228 v257 k0_t55) S1x1x1x16x128.size (k0_off2346_inb v1 k0_t51 v228 v257 k0_hw35 k0_t55)).PackedRows (EltTy.packing .bf16) := fun v1 k0_t51 v228 v257 k0_hw35 k0_t55 => k0_hw35.2.2.2.2.2.2.2.2.2.2.2.2.1.2.2.2.2.2.2.2.2.2.2.2.1 k0_t55 (k0_off2346_inb v1 k0_t51 v228 v257 k0_hw35 k0_t55)
theorem k0_off2347_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2347 v1 k0_t51 v228 v257 k0_t55) a + S1x1x1x32x128.size a ≤ S2x2x8x1728x128.size a := fun v1 k0_t51 v228 v257 k0_hw35 k0_t55 => k0_hw35.2.2.2.2.2.2.2.2.2.2.2.2.1.2.2.2.2.2.2.2.2.2.2.2.2.1 k0_t55
theorem k0_off2349_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2349 v1 k0_t51 v228 v257 k0_t55) a + S1x1x1x16x128.size a ≤ S2x2x108x128x128.size a := fun v1 k0_t51 v228 v257 k0_hw35 k0_t55 => k0_hw35.2.2.2.2.2.2.2.2.2.2.2.2.1.2.2.2.2.2.2.2.2.2.2.2.2.2.1 k0_t55
theorem k0_off2349_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2349 v1 k0_t51 v228 v257 k0_t55) S1x1x1x16x128.size (k0_off2349_inb v1 k0_t51 v228 v257 k0_hw35 k0_t55)).PackedRows (EltTy.packing .bf16) := fun v1 k0_t51 v228 v257 k0_hw35 k0_t55 => k0_hw35.2.2.2.2.2.2.2.2.2.2.2.2.1.2.2.2.2.2.2.2.2.2.2.2.2.2.2.1 k0_t55 (k0_off2349_inb v1 k0_t51 v228 v257 k0_hw35 k0_t55)
theorem k0_off2351_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2351 v1 k0_t51 v228 v257 k0_t55) a + S1x1x1x16x128.size a ≤ S2x2x108x128x128.size a := fun v1 k0_t51 v228 v257 k0_hw35 k0_t55 => k0_hw35.2.2.2.2.2.2.2.2.2.2.2.2.1.2.2.2.2.2.2.2.2.2.2.2.2.2.2.2.1 k0_t55
theorem k0_off2351_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2351 v1 k0_t51 v228 v257 k0_t55) S1x1x1x16x128.size (k0_off2351_inb v1 k0_t51 v228 v257 k0_hw35 k0_t55)).PackedRows (EltTy.packing .bf16) := fun v1 k0_t51 v228 v257 k0_hw35 k0_t55 => k0_hw35.2.2.2.2.2.2.2.2.2.2.2.2.1.2.2.2.2.2.2.2.2.2.2.2.2.2.2.2.2.1 k0_t55 (k0_off2351_inb v1 k0_t51 v228 v257 k0_hw35 k0_t55)
theorem k0_off2352_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2352 v1 k0_t51 v228 v257 k0_t55) a + S1x1x1x32x128.size a ≤ S2x2x8x1728x128.size a := fun v1 k0_t51 v228 v257 k0_hw35 k0_t55 => k0_hw35.2.2.2.2.2.2.2.2.2.2.2.2.1.2.2.2.2.2.2.2.2.2.2.2.2.2.2.2.2.2.1 k0_t55
theorem k0_off2354_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2354 v1 k0_t51 v228 v257 k0_t55) a + S1x1x1x16x128.size a ≤ S2x2x108x128x128.size a := fun v1 k0_t51 v228 v257 k0_hw35 k0_t55 => k0_hw35.2.2.2.2.2.2.2.2.2.2.2.2.1.2.2.2.2.2.2.2.2.2.2.2.2.2.2.2.2.2.2.1 k0_t55
theorem k0_off2354_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2354 v1 k0_t51 v228 v257 k0_t55) S1x1x1x16x128.size (k0_off2354_inb v1 k0_t51 v228 v257 k0_hw35 k0_t55)).PackedRows (EltTy.packing .bf16) := fun v1 k0_t51 v228 v257 k0_hw35 k0_t55 => k0_hw35.2.2.2.2.2.2.2.2.2.2.2.2.1.2.2.2.2.2.2.2.2.2.2.2.2.2.2.2.2.2.2.2.1 k0_t55 (k0_off2354_inb v1 k0_t51 v228 v257 k0_hw35 k0_t55)
theorem k0_off2356_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2356 v1 k0_t51 v228 v257 k0_t55) a + S1x1x1x16x128.size a ≤ S2x2x108x128x128.size a := fun v1 k0_t51 v228 v257 k0_hw35 k0_t55 => k0_hw35.2.2.2.2.2.2.2.2.2.2.2.2.1.2.2.2.2.2.2.2.2.2.2.2.2.2.2.2.2.2.2.2.2.1 k0_t55
theorem k0_off2356_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2356 v1 k0_t51 v228 v257 k0_t55) S1x1x1x16x128.size (k0_off2356_inb v1 k0_t51 v228 v257 k0_hw35 k0_t55)).PackedRows (EltTy.packing .bf16) := fun v1 k0_t51 v228 v257 k0_hw35 k0_t55 => k0_hw35.2.2.2.2.2.2.2.2.2.2.2.2.1.2.2.2.2.2.2.2.2.2.2.2.2.2.2.2.2.2.2.2.2.2.1 k0_t55 (k0_off2356_inb v1 k0_t51 v228 v257 k0_hw35 k0_t55)
theorem k0_off2357_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2357 v1 k0_t51 v228 v257 k0_t55) a + S1x1x1x32x128.size a ≤ S2x2x8x1728x128.size a := fun v1 k0_t51 v228 v257 k0_hw35 k0_t55 => k0_hw35.2.2.2.2.2.2.2.2.2.2.2.2.1.2.2.2.2.2.2.2.2.2.2.2.2.2.2.2.2.2.2.2.2.2.2.1 k0_t55
theorem k0_off2359_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2359 v1 k0_t51 v228 v257 k0_t55) a + S1x1x1x16x128.size a ≤ S2x2x108x128x128.size a := fun v1 k0_t51 v228 v257 k0_hw35 k0_t55 => k0_hw35.2.2.2.2.2.2.2.2.2.2.2.2.1.2.2.2.2.2.2.2.2.2.2.2.2.2.2.2.2.2.2.2.2.2.2.2.1 k0_t55
theorem k0_off2359_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2359 v1 k0_t51 v228 v257 k0_t55) S1x1x1x16x128.size (k0_off2359_inb v1 k0_t51 v228 v257 k0_hw35 k0_t55)).PackedRows (EltTy.packing .bf16) := fun v1 k0_t51 v228 v257 k0_hw35 k0_t55 => k0_hw35.2.2.2.2.2.2.2.2.2.2.2.2.1.2.2.2.2.2.2.2.2.2.2.2.2.2.2.2.2.2.2.2.2.2.2.2.2.1 k0_t55 (k0_off2359_inb v1 k0_t51 v228 v257 k0_hw35 k0_t55)
theorem k0_off2361_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2361 v1 k0_t51 v228 v257 k0_t55) a + S1x1x1x16x128.size a ≤ S2x2x108x128x128.size a := fun v1 k0_t51 v228 v257 k0_hw35 k0_t55 => k0_hw35.2.2.2.2.2.2.2.2.2.2.2.2.1.2.2.2.2.2.2.2.2.2.2.2.2.2.2.2.2.2.2.2.2.2.2.2.2.2.1 k0_t55
theorem k0_off2361_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2361 v1 k0_t51 v228 v257 k0_t55) S1x1x1x16x128.size (k0_off2361_inb v1 k0_t51 v228 v257 k0_hw35 k0_t55)).PackedRows (EltTy.packing .bf16) := fun v1 k0_t51 v228 v257 k0_hw35 k0_t55 => k0_hw35.2.2.2.2.2.2.2.2.2.2.2.2.1.2.2.2.2.2.2.2.2.2.2.2.2.2.2.2.2.2.2.2.2.2.2.2.2.2.2.1 k0_t55 (k0_off2361_inb v1 k0_t51 v228 v257 k0_hw35 k0_t55)
theorem k0_off2362_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2362 v1 k0_t51 v228 v257 k0_t55) a + S1x1x1x32x128.size a ≤ S2x2x8x1728x128.size a := fun v1 k0_t51 v228 v257 k0_hw35 k0_t55 => k0_hw35.2.2.2.2.2.2.2.2.2.2.2.2.1.2.2.2.2.2.2.2.2.2.2.2.2.2.2.2.2.2.2.2.2.2.2.2.2.2.2.2.1 k0_t55
theorem k0_off2364_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2364 v1 k0_t51 v228 v257 k0_t55) a + S1x1x1x16x128.size a ≤ S2x2x108x128x128.size a := fun v1 k0_t51 v228 v257 k0_hw35 k0_t55 => k0_hw35.2.2.2.2.2.2.2.2.2.2.2.2.1.2.2.2.2.2.2.2.2.2.2.2.2.2.2.2.2.2.2.2.2.2.2.2.2.2.2.2.2.1 k0_t55
theorem k0_off2364_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2364 v1 k0_t51 v228 v257 k0_t55) S1x1x1x16x128.size (k0_off2364_inb v1 k0_t51 v228 v257 k0_hw35 k0_t55)).PackedRows (EltTy.packing .bf16) := fun v1 k0_t51 v228 v257 k0_hw35 k0_t55 => k0_hw35.2.2.2.2.2.2.2.2.2.2.2.2.1.2.2.2.2.2.2.2.2.2.2.2.2.2.2.2.2.2.2.2.2.2.2.2.2.2.2.2.2.2.1 k0_t55 (k0_off2364_inb v1 k0_t51 v228 v257 k0_hw35 k0_t55)
theorem k0_off2366_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2366 v1 k0_t51 v228 v257 k0_t55) a + S1x1x1x16x128.size a ≤ S2x2x108x128x128.size a := fun v1 k0_t51 v228 v257 k0_hw35 k0_t55 => k0_hw35.2.2.2.2.2.2.2.2.2.2.2.2.1.2.2.2.2.2.2.2.2.2.2.2.2.2.2.2.2.2.2.2.2.2.2.2.2.2.2.2.2.2.2.1 k0_t55
theorem k0_off2366_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2366 v1 k0_t51 v228 v257 k0_t55) S1x1x1x16x128.size (k0_off2366_inb v1 k0_t51 v228 v257 k0_hw35 k0_t55)).PackedRows (EltTy.packing .bf16) := fun v1 k0_t51 v228 v257 k0_hw35 k0_t55 => k0_hw35.2.2.2.2.2.2.2.2.2.2.2.2.1.2.2.2.2.2.2.2.2.2.2.2.2.2.2.2.2.2.2.2.2.2.2.2.2.2.2.2.2.2.2.2 k0_t55 (k0_off2366_inb v1 k0_t51 v228 v257 k0_hw35 k0_t55)
theorem k0_off2367_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2367 v1 k0_t51 v228 v257 k0_t55) a + S1x1x1x32x128.size a ≤ S2x2x8x1728x128.size a := fun v1 k0_t51 v228 v257 k0_hw35 k0_t55 => k0_hw35.2.2.2.2.2.2.2.2.2.2.2.2.2.1.1 k0_t55
theorem k0_off2369_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2369 v1 k0_t51 v228 v257 k0_t55) a + S1x1x1x16x128.size a ≤ S2x2x108x128x128.size a := fun v1 k0_t51 v228 v257 k0_hw35 k0_t55 => k0_hw35.2.2.2.2.2.2.2.2.2.2.2.2.2.1.2.1 k0_t55
theorem k0_off2369_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2369 v1 k0_t51 v228 v257 k0_t55) S1x1x1x16x128.size (k0_off2369_inb v1 k0_t51 v228 v257 k0_hw35 k0_t55)).PackedRows (EltTy.packing .bf16) := fun v1 k0_t51 v228 v257 k0_hw35 k0_t55 => k0_hw35.2.2.2.2.2.2.2.2.2.2.2.2.2.1.2.2.1 k0_t55 (k0_off2369_inb v1 k0_t51 v228 v257 k0_hw35 k0_t55)
theorem k0_off2371_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2371 v1 k0_t51 v228 v257 k0_t55) a + S1x1x1x16x128.size a ≤ S2x2x108x128x128.size a := fun v1 k0_t51 v228 v257 k0_hw35 k0_t55 => k0_hw35.2.2.2.2.2.2.2.2.2.2.2.2.2.1.2.2.2.1 k0_t55
theorem k0_off2371_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2371 v1 k0_t51 v228 v257 k0_t55) S1x1x1x16x128.size (k0_off2371_inb v1 k0_t51 v228 v257 k0_hw35 k0_t55)).PackedRows (EltTy.packing .bf16) := fun v1 k0_t51 v228 v257 k0_hw35 k0_t55 => k0_hw35.2.2.2.2.2.2.2.2.2.2.2.2.2.1.2.2.2.2.1 k0_t55 (k0_off2371_inb v1 k0_t51 v228 v257 k0_hw35 k0_t55)
theorem k0_off2372_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2372 v1 k0_t51 v228 v257 k0_t55) a + S1x1x1x32x128.size a ≤ S2x2x8x1728x128.size a := fun v1 k0_t51 v228 v257 k0_hw35 k0_t55 => k0_hw35.2.2.2.2.2.2.2.2.2.2.2.2.2.1.2.2.2.2.2.1 k0_t55
theorem k0_off2374_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2374 v1 k0_t51 v228 v257 k0_t55) a + S1x1x1x16x128.size a ≤ S2x2x108x128x128.size a := fun v1 k0_t51 v228 v257 k0_hw35 k0_t55 => k0_hw35.2.2.2.2.2.2.2.2.2.2.2.2.2.1.2.2.2.2.2.2.1 k0_t55
theorem k0_off2374_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2374 v1 k0_t51 v228 v257 k0_t55) S1x1x1x16x128.size (k0_off2374_inb v1 k0_t51 v228 v257 k0_hw35 k0_t55)).PackedRows (EltTy.packing .bf16) := fun v1 k0_t51 v228 v257 k0_hw35 k0_t55 => k0_hw35.2.2.2.2.2.2.2.2.2.2.2.2.2.1.2.2.2.2.2.2.2.1 k0_t55 (k0_off2374_inb v1 k0_t51 v228 v257 k0_hw35 k0_t55)
theorem k0_off2376_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2376 v1 k0_t51 v228 v257 k0_t55) a + S1x1x1x16x128.size a ≤ S2x2x108x128x128.size a := fun v1 k0_t51 v228 v257 k0_hw35 k0_t55 => k0_hw35.2.2.2.2.2.2.2.2.2.2.2.2.2.1.2.2.2.2.2.2.2.2.1 k0_t55
theorem k0_off2376_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2376 v1 k0_t51 v228 v257 k0_t55) S1x1x1x16x128.size (k0_off2376_inb v1 k0_t51 v228 v257 k0_hw35 k0_t55)).PackedRows (EltTy.packing .bf16) := fun v1 k0_t51 v228 v257 k0_hw35 k0_t55 => k0_hw35.2.2.2.2.2.2.2.2.2.2.2.2.2.1.2.2.2.2.2.2.2.2.2.1 k0_t55 (k0_off2376_inb v1 k0_t51 v228 v257 k0_hw35 k0_t55)
theorem k0_off2377_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2377 v1 k0_t51 v228 v257 k0_t55) a + S1x1x1x32x128.size a ≤ S2x2x8x1728x128.size a := fun v1 k0_t51 v228 v257 k0_hw35 k0_t55 => k0_hw35.2.2.2.2.2.2.2.2.2.2.2.2.2.1.2.2.2.2.2.2.2.2.2.2.1 k0_t55
theorem k0_off2379_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2379 v1 k0_t51 v228 v257 k0_t55) a + S1x1x1x16x128.size a ≤ S2x2x108x128x128.size a := fun v1 k0_t51 v228 v257 k0_hw35 k0_t55 => k0_hw35.2.2.2.2.2.2.2.2.2.2.2.2.2.1.2.2.2.2.2.2.2.2.2.2.2.1 k0_t55
theorem k0_off2379_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2379 v1 k0_t51 v228 v257 k0_t55) S1x1x1x16x128.size (k0_off2379_inb v1 k0_t51 v228 v257 k0_hw35 k0_t55)).PackedRows (EltTy.packing .bf16) := fun v1 k0_t51 v228 v257 k0_hw35 k0_t55 => k0_hw35.2.2.2.2.2.2.2.2.2.2.2.2.2.1.2.2.2.2.2.2.2.2.2.2.2.2.1 k0_t55 (k0_off2379_inb v1 k0_t51 v228 v257 k0_hw35 k0_t55)
theorem k0_off2381_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2381 v1 k0_t51 v228 v257 k0_t55) a + S1x1x1x16x128.size a ≤ S2x2x108x128x128.size a := fun v1 k0_t51 v228 v257 k0_hw35 k0_t55 => k0_hw35.2.2.2.2.2.2.2.2.2.2.2.2.2.1.2.2.2.2.2.2.2.2.2.2.2.2.2.1 k0_t55
theorem k0_off2381_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2381 v1 k0_t51 v228 v257 k0_t55) S1x1x1x16x128.size (k0_off2381_inb v1 k0_t51 v228 v257 k0_hw35 k0_t55)).PackedRows (EltTy.packing .bf16) := fun v1 k0_t51 v228 v257 k0_hw35 k0_t55 => k0_hw35.2.2.2.2.2.2.2.2.2.2.2.2.2.1.2.2.2.2.2.2.2.2.2.2.2.2.2.2.1 k0_t55 (k0_off2381_inb v1 k0_t51 v228 v257 k0_hw35 k0_t55)
theorem k0_off2382_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2382 v1 k0_t51 v228 v257 k0_t55) a + S1x1x1x32x128.size a ≤ S2x2x8x1728x128.size a := fun v1 k0_t51 v228 v257 k0_hw35 k0_t55 => k0_hw35.2.2.2.2.2.2.2.2.2.2.2.2.2.1.2.2.2.2.2.2.2.2.2.2.2.2.2.2.2.1 k0_t55
theorem k0_off2384_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2384 v1 k0_t51 v228 v257 k0_t55) a + S1x1x1x16x128.size a ≤ S2x2x108x128x128.size a := fun v1 k0_t51 v228 v257 k0_hw35 k0_t55 => k0_hw35.2.2.2.2.2.2.2.2.2.2.2.2.2.1.2.2.2.2.2.2.2.2.2.2.2.2.2.2.2.2.1 k0_t55
theorem k0_off2384_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2384 v1 k0_t51 v228 v257 k0_t55) S1x1x1x16x128.size (k0_off2384_inb v1 k0_t51 v228 v257 k0_hw35 k0_t55)).PackedRows (EltTy.packing .bf16) := fun v1 k0_t51 v228 v257 k0_hw35 k0_t55 => k0_hw35.2.2.2.2.2.2.2.2.2.2.2.2.2.1.2.2.2.2.2.2.2.2.2.2.2.2.2.2.2.2.2.1 k0_t55 (k0_off2384_inb v1 k0_t51 v228 v257 k0_hw35 k0_t55)
theorem k0_off2386_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2386 v1 k0_t51 v228 v257 k0_t55) a + S1x1x1x16x128.size a ≤ S2x2x108x128x128.size a := fun v1 k0_t51 v228 v257 k0_hw35 k0_t55 => k0_hw35.2.2.2.2.2.2.2.2.2.2.2.2.2.1.2.2.2.2.2.2.2.2.2.2.2.2.2.2.2.2.2.2.1 k0_t55
theorem k0_off2386_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2386 v1 k0_t51 v228 v257 k0_t55) S1x1x1x16x128.size (k0_off2386_inb v1 k0_t51 v228 v257 k0_hw35 k0_t55)).PackedRows (EltTy.packing .bf16) := fun v1 k0_t51 v228 v257 k0_hw35 k0_t55 => k0_hw35.2.2.2.2.2.2.2.2.2.2.2.2.2.1.2.2.2.2.2.2.2.2.2.2.2.2.2.2.2.2.2.2.2.1 k0_t55 (k0_off2386_inb v1 k0_t51 v228 v257 k0_hw35 k0_t55)
theorem k0_off2387_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2387 v1 k0_t51 v228 v257 k0_t55) a + S1x1x1x32x128.size a ≤ S2x2x8x1728x128.size a := fun v1 k0_t51 v228 v257 k0_hw35 k0_t55 => k0_hw35.2.2.2.2.2.2.2.2.2.2.2.2.2.1.2.2.2.2.2.2.2.2.2.2.2.2.2.2.2.2.2.2.2.2.1 k0_t55
theorem k0_off2389_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2389 v1 k0_t51 v228 v257 k0_t55) a + S1x1x1x16x128.size a ≤ S2x2x108x128x128.size a := fun v1 k0_t51 v228 v257 k0_hw35 k0_t55 => k0_hw35.2.2.2.2.2.2.2.2.2.2.2.2.2.1.2.2.2.2.2.2.2.2.2.2.2.2.2.2.2.2.2.2.2.2.2.1 k0_t55
theorem k0_off2389_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2389 v1 k0_t51 v228 v257 k0_t55) S1x1x1x16x128.size (k0_off2389_inb v1 k0_t51 v228 v257 k0_hw35 k0_t55)).PackedRows (EltTy.packing .bf16) := fun v1 k0_t51 v228 v257 k0_hw35 k0_t55 => k0_hw35.2.2.2.2.2.2.2.2.2.2.2.2.2.1.2.2.2.2.2.2.2.2.2.2.2.2.2.2.2.2.2.2.2.2.2.2.1 k0_t55 (k0_off2389_inb v1 k0_t51 v228 v257 k0_hw35 k0_t55)
theorem k0_off2391_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2391 v1 k0_t51 v228 v257 k0_t55) a + S1x1x1x16x128.size a ≤ S2x2x108x128x128.size a := fun v1 k0_t51 v228 v257 k0_hw35 k0_t55 => k0_hw35.2.2.2.2.2.2.2.2.2.2.2.2.2.1.2.2.2.2.2.2.2.2.2.2.2.2.2.2.2.2.2.2.2.2.2.2.2.1 k0_t55
theorem k0_off2391_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2391 v1 k0_t51 v228 v257 k0_t55) S1x1x1x16x128.size (k0_off2391_inb v1 k0_t51 v228 v257 k0_hw35 k0_t55)).PackedRows (EltTy.packing .bf16) := fun v1 k0_t51 v228 v257 k0_hw35 k0_t55 => k0_hw35.2.2.2.2.2.2.2.2.2.2.2.2.2.1.2.2.2.2.2.2.2.2.2.2.2.2.2.2.2.2.2.2.2.2.2.2.2.2.1 k0_t55 (k0_off2391_inb v1 k0_t51 v228 v257 k0_hw35 k0_t55)
theorem k0_off2392_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2392 v1 k0_t51 v228 v257 k0_t55) a + S1x1x1x32x128.size a ≤ S2x2x8x1728x128.size a := fun v1 k0_t51 v228 v257 k0_hw35 k0_t55 => k0_hw35.2.2.2.2.2.2.2.2.2.2.2.2.2.1.2.2.2.2.2.2.2.2.2.2.2.2.2.2.2.2.2.2.2.2.2.2.2.2.2.1 k0_t55
theorem k0_off2394_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2394 v1 k0_t51 v228 v257 k0_t55) a + S1x1x1x16x128.size a ≤ S2x2x108x128x128.size a := fun v1 k0_t51 v228 v257 k0_hw35 k0_t55 => k0_hw35.2.2.2.2.2.2.2.2.2.2.2.2.2.1.2.2.2.2.2.2.2.2.2.2.2.2.2.2.2.2.2.2.2.2.2.2.2.2.2.2.1 k0_t55
theorem k0_off2394_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2394 v1 k0_t51 v228 v257 k0_t55) S1x1x1x16x128.size (k0_off2394_inb v1 k0_t51 v228 v257 k0_hw35 k0_t55)).PackedRows (EltTy.packing .bf16) := fun v1 k0_t51 v228 v257 k0_hw35 k0_t55 => k0_hw35.2.2.2.2.2.2.2.2.2.2.2.2.2.1.2.2.2.2.2.2.2.2.2.2.2.2.2.2.2.2.2.2.2.2.2.2.2.2.2.2.2.1 k0_t55 (k0_off2394_inb v1 k0_t51 v228 v257 k0_hw35 k0_t55)
theorem k0_off2396_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2396 v1 k0_t51 v228 v257 k0_t55) a + S1x1x1x16x128.size a ≤ S2x2x108x128x128.size a := fun v1 k0_t51 v228 v257 k0_hw35 k0_t55 => k0_hw35.2.2.2.2.2.2.2.2.2.2.2.2.2.1.2.2.2.2.2.2.2.2.2.2.2.2.2.2.2.2.2.2.2.2.2.2.2.2.2.2.2.2.1 k0_t55
theorem k0_off2396_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2396 v1 k0_t51 v228 v257 k0_t55) S1x1x1x16x128.size (k0_off2396_inb v1 k0_t51 v228 v257 k0_hw35 k0_t55)).PackedRows (EltTy.packing .bf16) := fun v1 k0_t51 v228 v257 k0_hw35 k0_t55 => k0_hw35.2.2.2.2.2.2.2.2.2.2.2.2.2.1.2.2.2.2.2.2.2.2.2.2.2.2.2.2.2.2.2.2.2.2.2.2.2.2.2.2.2.2.2.1 k0_t55 (k0_off2396_inb v1 k0_t51 v228 v257 k0_hw35 k0_t55)
theorem k0_off2397_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2397 v1 k0_t51 v228 v257 k0_t55) a + S1x1x1x32x128.size a ≤ S2x2x8x1728x128.size a := fun v1 k0_t51 v228 v257 k0_hw35 k0_t55 => k0_hw35.2.2.2.2.2.2.2.2.2.2.2.2.2.1.2.2.2.2.2.2.2.2.2.2.2.2.2.2.2.2.2.2.2.2.2.2.2.2.2.2.2.2.2.2.1 k0_t55
theorem k0_off2399_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2399 v1 k0_t51 v228 v257 k0_t55) a + S1x1x1x16x128.size a ≤ S2x2x108x128x128.size a := fun v1 k0_t51 v228 v257 k0_hw35 k0_t55 => k0_hw35.2.2.2.2.2.2.2.2.2.2.2.2.2.1.2.2.2.2.2.2.2.2.2.2.2.2.2.2.2.2.2.2.2.2.2.2.2.2.2.2.2.2.2.2.2 k0_t55
theorem k0_off2399_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2399 v1 k0_t51 v228 v257 k0_t55) S1x1x1x16x128.size (k0_off2399_inb v1 k0_t51 v228 v257 k0_hw35 k0_t55)).PackedRows (EltTy.packing .bf16) := fun v1 k0_t51 v228 v257 k0_hw35 k0_t55 => k0_hw35.2.2.2.2.2.2.2.2.2.2.2.2.2.2.1.1 k0_t55 (k0_off2399_inb v1 k0_t51 v228 v257 k0_hw35 k0_t55)
theorem k0_off2401_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2401 v1 k0_t51 v228 v257 k0_t55) a + S1x1x1x16x128.size a ≤ S2x2x108x128x128.size a := fun v1 k0_t51 v228 v257 k0_hw35 k0_t55 => k0_hw35.2.2.2.2.2.2.2.2.2.2.2.2.2.2.1.2.1 k0_t55
theorem k0_off2401_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2401 v1 k0_t51 v228 v257 k0_t55) S1x1x1x16x128.size (k0_off2401_inb v1 k0_t51 v228 v257 k0_hw35 k0_t55)).PackedRows (EltTy.packing .bf16) := fun v1 k0_t51 v228 v257 k0_hw35 k0_t55 => k0_hw35.2.2.2.2.2.2.2.2.2.2.2.2.2.2.1.2.2.1 k0_t55 (k0_off2401_inb v1 k0_t51 v228 v257 k0_hw35 k0_t55)
theorem k0_off2402_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2402 v1 k0_t51 v228 v257 k0_t55) a + S1x1x1x32x128.size a ≤ S2x2x8x1728x128.size a := fun v1 k0_t51 v228 v257 k0_hw35 k0_t55 => k0_hw35.2.2.2.2.2.2.2.2.2.2.2.2.2.2.1.2.2.2.1 k0_t55
theorem k0_off2404_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2404 v1 k0_t51 v228 v257 k0_t55) a + S1x1x1x16x128.size a ≤ S2x2x108x128x128.size a := fun v1 k0_t51 v228 v257 k0_hw35 k0_t55 => k0_hw35.2.2.2.2.2.2.2.2.2.2.2.2.2.2.1.2.2.2.2.1 k0_t55
theorem k0_off2404_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2404 v1 k0_t51 v228 v257 k0_t55) S1x1x1x16x128.size (k0_off2404_inb v1 k0_t51 v228 v257 k0_hw35 k0_t55)).PackedRows (EltTy.packing .bf16) := fun v1 k0_t51 v228 v257 k0_hw35 k0_t55 => k0_hw35.2.2.2.2.2.2.2.2.2.2.2.2.2.2.1.2.2.2.2.2.1 k0_t55 (k0_off2404_inb v1 k0_t51 v228 v257 k0_hw35 k0_t55)
theorem k0_off2406_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2406 v1 k0_t51 v228 v257 k0_t55) a + S1x1x1x16x128.size a ≤ S2x2x108x128x128.size a := fun v1 k0_t51 v228 v257 k0_hw35 k0_t55 => k0_hw35.2.2.2.2.2.2.2.2.2.2.2.2.2.2.1.2.2.2.2.2.2.1 k0_t55
theorem k0_off2406_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2406 v1 k0_t51 v228 v257 k0_t55) S1x1x1x16x128.size (k0_off2406_inb v1 k0_t51 v228 v257 k0_hw35 k0_t55)).PackedRows (EltTy.packing .bf16) := fun v1 k0_t51 v228 v257 k0_hw35 k0_t55 => k0_hw35.2.2.2.2.2.2.2.2.2.2.2.2.2.2.1.2.2.2.2.2.2.2.1 k0_t55 (k0_off2406_inb v1 k0_t51 v228 v257 k0_hw35 k0_t55)
theorem k0_off2407_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2407 v1 k0_t51 v228 v257 k0_t55) a + S1x1x1x32x128.size a ≤ S2x2x8x1728x128.size a := fun v1 k0_t51 v228 v257 k0_hw35 k0_t55 => k0_hw35.2.2.2.2.2.2.2.2.2.2.2.2.2.2.1.2.2.2.2.2.2.2.2.1 k0_t55
theorem k0_off2409_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2409 v1 k0_t51 v228 v257 k0_t55) a + S1x1x1x16x128.size a ≤ S2x2x108x128x128.size a := fun v1 k0_t51 v228 v257 k0_hw35 k0_t55 => k0_hw35.2.2.2.2.2.2.2.2.2.2.2.2.2.2.1.2.2.2.2.2.2.2.2.2.1 k0_t55
theorem k0_off2409_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2409 v1 k0_t51 v228 v257 k0_t55) S1x1x1x16x128.size (k0_off2409_inb v1 k0_t51 v228 v257 k0_hw35 k0_t55)).PackedRows (EltTy.packing .bf16) := fun v1 k0_t51 v228 v257 k0_hw35 k0_t55 => k0_hw35.2.2.2.2.2.2.2.2.2.2.2.2.2.2.1.2.2.2.2.2.2.2.2.2.2.1 k0_t55 (k0_off2409_inb v1 k0_t51 v228 v257 k0_hw35 k0_t55)
theorem k0_off2411_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2411 v1 k0_t51 v228 v257 k0_t55) a + S1x1x1x16x128.size a ≤ S2x2x108x128x128.size a := fun v1 k0_t51 v228 v257 k0_hw35 k0_t55 => k0_hw35.2.2.2.2.2.2.2.2.2.2.2.2.2.2.1.2.2.2.2.2.2.2.2.2.2.2.1 k0_t55
theorem k0_off2411_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2411 v1 k0_t51 v228 v257 k0_t55) S1x1x1x16x128.size (k0_off2411_inb v1 k0_t51 v228 v257 k0_hw35 k0_t55)).PackedRows (EltTy.packing .bf16) := fun v1 k0_t51 v228 v257 k0_hw35 k0_t55 => k0_hw35.2.2.2.2.2.2.2.2.2.2.2.2.2.2.1.2.2.2.2.2.2.2.2.2.2.2.2.1 k0_t55 (k0_off2411_inb v1 k0_t51 v228 v257 k0_hw35 k0_t55)
theorem k0_off2412_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2412 v1 k0_t51 v228 v257 k0_t55) a + S1x1x1x32x128.size a ≤ S2x2x8x1728x128.size a := fun v1 k0_t51 v228 v257 k0_hw35 k0_t55 => k0_hw35.2.2.2.2.2.2.2.2.2.2.2.2.2.2.1.2.2.2.2.2.2.2.2.2.2.2.2.2.1 k0_t55
theorem k0_off2414_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2414 v1 k0_t51 v228 v257 k0_t55) a + S1x1x1x16x128.size a ≤ S2x2x108x128x128.size a := fun v1 k0_t51 v228 v257 k0_hw35 k0_t55 => k0_hw35.2.2.2.2.2.2.2.2.2.2.2.2.2.2.1.2.2.2.2.2.2.2.2.2.2.2.2.2.2.1 k0_t55
theorem k0_off2414_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2414 v1 k0_t51 v228 v257 k0_t55) S1x1x1x16x128.size (k0_off2414_inb v1 k0_t51 v228 v257 k0_hw35 k0_t55)).PackedRows (EltTy.packing .bf16) := fun v1 k0_t51 v228 v257 k0_hw35 k0_t55 => k0_hw35.2.2.2.2.2.2.2.2.2.2.2.2.2.2.1.2.2.2.2.2.2.2.2.2.2.2.2.2.2.2.1 k0_t55 (k0_off2414_inb v1 k0_t51 v228 v257 k0_hw35 k0_t55)
theorem k0_off2416_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2416 v1 k0_t51 v228 v257 k0_t55) a + S1x1x1x16x128.size a ≤ S2x2x108x128x128.size a := fun v1 k0_t51 v228 v257 k0_hw35 k0_t55 => k0_hw35.2.2.2.2.2.2.2.2.2.2.2.2.2.2.1.2.2.2.2.2.2.2.2.2.2.2.2.2.2.2.2.1 k0_t55
theorem k0_off2416_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2416 v1 k0_t51 v228 v257 k0_t55) S1x1x1x16x128.size (k0_off2416_inb v1 k0_t51 v228 v257 k0_hw35 k0_t55)).PackedRows (EltTy.packing .bf16) := fun v1 k0_t51 v228 v257 k0_hw35 k0_t55 => k0_hw35.2.2.2.2.2.2.2.2.2.2.2.2.2.2.1.2.2.2.2.2.2.2.2.2.2.2.2.2.2.2.2.2.1 k0_t55 (k0_off2416_inb v1 k0_t51 v228 v257 k0_hw35 k0_t55)
theorem k0_off2417_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2417 v1 k0_t51 v228 v257 k0_t55) a + S1x1x1x32x128.size a ≤ S2x2x8x1728x128.size a := fun v1 k0_t51 v228 v257 k0_hw35 k0_t55 => k0_hw35.2.2.2.2.2.2.2.2.2.2.2.2.2.2.1.2.2.2.2.2.2.2.2.2.2.2.2.2.2.2.2.2.2.1 k0_t55
theorem k0_off2419_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2419 v1 k0_t51 v228 v257 k0_t55) a + S1x1x1x16x128.size a ≤ S2x2x108x128x128.size a := fun v1 k0_t51 v228 v257 k0_hw35 k0_t55 => k0_hw35.2.2.2.2.2.2.2.2.2.2.2.2.2.2.1.2.2.2.2.2.2.2.2.2.2.2.2.2.2.2.2.2.2.2.1 k0_t55
theorem k0_off2419_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2419 v1 k0_t51 v228 v257 k0_t55) S1x1x1x16x128.size (k0_off2419_inb v1 k0_t51 v228 v257 k0_hw35 k0_t55)).PackedRows (EltTy.packing .bf16) := fun v1 k0_t51 v228 v257 k0_hw35 k0_t55 => k0_hw35.2.2.2.2.2.2.2.2.2.2.2.2.2.2.1.2.2.2.2.2.2.2.2.2.2.2.2.2.2.2.2.2.2.2.2.1 k0_t55 (k0_off2419_inb v1 k0_t51 v228 v257 k0_hw35 k0_t55)
theorem k0_off2421_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2421 v1 k0_t51 v228 v257 k0_t55) a + S1x1x1x16x128.size a ≤ S2x2x108x128x128.size a := fun v1 k0_t51 v228 v257 k0_hw35 k0_t55 => k0_hw35.2.2.2.2.2.2.2.2.2.2.2.2.2.2.1.2.2.2.2.2.2.2.2.2.2.2.2.2.2.2.2.2.2.2.2.2.1 k0_t55
theorem k0_off2421_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2421 v1 k0_t51 v228 v257 k0_t55) S1x1x1x16x128.size (k0_off2421_inb v1 k0_t51 v228 v257 k0_hw35 k0_t55)).PackedRows (EltTy.packing .bf16) := fun v1 k0_t51 v228 v257 k0_hw35 k0_t55 => k0_hw35.2.2.2.2.2.2.2.2.2.2.2.2.2.2.1.2.2.2.2.2.2.2.2.2.2.2.2.2.2.2.2.2.2.2.2.2.2.1 k0_t55 (k0_off2421_inb v1 k0_t51 v228 v257 k0_hw35 k0_t55)
theorem k0_off2422_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2422 v1 k0_t51 v228 v257 k0_t55) a + S1x1x1x32x128.size a ≤ S2x2x8x1728x128.size a := fun v1 k0_t51 v228 v257 k0_hw35 k0_t55 => k0_hw35.2.2.2.2.2.2.2.2.2.2.2.2.2.2.1.2.2.2.2.2.2.2.2.2.2.2.2.2.2.2.2.2.2.2.2.2.2.2.1 k0_t55
theorem k0_off2424_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2424 v1 k0_t51 v228 v257 k0_t55) a + S1x1x1x16x128.size a ≤ S2x2x108x128x128.size a := fun v1 k0_t51 v228 v257 k0_hw35 k0_t55 => k0_hw35.2.2.2.2.2.2.2.2.2.2.2.2.2.2.1.2.2.2.2.2.2.2.2.2.2.2.2.2.2.2.2.2.2.2.2.2.2.2.2.1 k0_t55
theorem k0_off2424_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2424 v1 k0_t51 v228 v257 k0_t55) S1x1x1x16x128.size (k0_off2424_inb v1 k0_t51 v228 v257 k0_hw35 k0_t55)).PackedRows (EltTy.packing .bf16) := fun v1 k0_t51 v228 v257 k0_hw35 k0_t55 => k0_hw35.2.2.2.2.2.2.2.2.2.2.2.2.2.2.1.2.2.2.2.2.2.2.2.2.2.2.2.2.2.2.2.2.2.2.2.2.2.2.2.2.1 k0_t55 (k0_off2424_inb v1 k0_t51 v228 v257 k0_hw35 k0_t55)
theorem k0_off2426_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2426 v1 k0_t51 v228 v257 k0_t55) a + S1x1x1x16x128.size a ≤ S2x2x108x128x128.size a := fun v1 k0_t51 v228 v257 k0_hw35 k0_t55 => k0_hw35.2.2.2.2.2.2.2.2.2.2.2.2.2.2.1.2.2.2.2.2.2.2.2.2.2.2.2.2.2.2.2.2.2.2.2.2.2.2.2.2.2.1 k0_t55
theorem k0_off2426_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2426 v1 k0_t51 v228 v257 k0_t55) S1x1x1x16x128.size (k0_off2426_inb v1 k0_t51 v228 v257 k0_hw35 k0_t55)).PackedRows (EltTy.packing .bf16) := fun v1 k0_t51 v228 v257 k0_hw35 k0_t55 => k0_hw35.2.2.2.2.2.2.2.2.2.2.2.2.2.2.1.2.2.2.2.2.2.2.2.2.2.2.2.2.2.2.2.2.2.2.2.2.2.2.2.2.2.2.1 k0_t55 (k0_off2426_inb v1 k0_t51 v228 v257 k0_hw35 k0_t55)
theorem k0_off2427_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2427 v1 k0_t51 v228 v257 k0_t55) a + S1x1x1x32x128.size a ≤ S2x2x8x1728x128.size a := fun v1 k0_t51 v228 v257 k0_hw35 k0_t55 => k0_hw35.2.2.2.2.2.2.2.2.2.2.2.2.2.2.1.2.2.2.2.2.2.2.2.2.2.2.2.2.2.2.2.2.2.2.2.2.2.2.2.2.2.2.2.1 k0_t55
theorem k0_off2429_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2429 v1 k0_t51 v228 v257 k0_t55) a + S1x1x1x16x128.size a ≤ S2x2x108x128x128.size a := fun v1 k0_t51 v228 v257 k0_hw35 k0_t55 => k0_hw35.2.2.2.2.2.2.2.2.2.2.2.2.2.2.1.2.2.2.2.2.2.2.2.2.2.2.2.2.2.2.2.2.2.2.2.2.2.2.2.2.2.2.2.2.1 k0_t55
theorem k0_off2429_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2429 v1 k0_t51 v228 v257 k0_t55) S1x1x1x16x128.size (k0_off2429_inb v1 k0_t51 v228 v257 k0_hw35 k0_t55)).PackedRows (EltTy.packing .bf16) := fun v1 k0_t51 v228 v257 k0_hw35 k0_t55 => k0_hw35.2.2.2.2.2.2.2.2.2.2.2.2.2.2.1.2.2.2.2.2.2.2.2.2.2.2.2.2.2.2.2.2.2.2.2.2.2.2.2.2.2.2.2.2.2.1 k0_t55 (k0_off2429_inb v1 k0_t51 v228 v257 k0_hw35 k0_t55)
theorem k0_off2431_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2431 v1 k0_t51 v228 v257 k0_t55) a + S1x1x1x16x128.size a ≤ S2x2x108x128x128.size a := fun v1 k0_t51 v228 v257 k0_hw35 k0_t55 => k0_hw35.2.2.2.2.2.2.2.2.2.2.2.2.2.2.1.2.2.2.2.2.2.2.2.2.2.2.2.2.2.2.2.2.2.2.2.2.2.2.2.2.2.2.2.2.2.2 k0_t55
theorem k0_off2431_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2431 v1 k0_t51 v228 v257 k0_t55) S1x1x1x16x128.size (k0_off2431_inb v1 k0_t51 v228 v257 k0_hw35 k0_t55)).PackedRows (EltTy.packing .bf16) := fun v1 k0_t51 v228 v257 k0_hw35 k0_t55 => k0_hw35.2.2.2.2.2.2.2.2.2.2.2.2.2.2.2.1.1 k0_t55 (k0_off2431_inb v1 k0_t51 v228 v257 k0_hw35 k0_t55)
theorem k0_off2432_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2432 v1 k0_t51 v228 v257 k0_t55) a + S1x1x1x32x128.size a ≤ S2x2x8x1728x128.size a := fun v1 k0_t51 v228 v257 k0_hw35 k0_t55 => k0_hw35.2.2.2.2.2.2.2.2.2.2.2.2.2.2.2.1.2.1 k0_t55
theorem k0_off2434_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2434 v1 k0_t51 v228 v257 k0_t55) a + S1x1x1x16x128.size a ≤ S2x2x108x128x128.size a := fun v1 k0_t51 v228 v257 k0_hw35 k0_t55 => k0_hw35.2.2.2.2.2.2.2.2.2.2.2.2.2.2.2.1.2.2.1 k0_t55
theorem k0_off2434_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2434 v1 k0_t51 v228 v257 k0_t55) S1x1x1x16x128.size (k0_off2434_inb v1 k0_t51 v228 v257 k0_hw35 k0_t55)).PackedRows (EltTy.packing .bf16) := fun v1 k0_t51 v228 v257 k0_hw35 k0_t55 => k0_hw35.2.2.2.2.2.2.2.2.2.2.2.2.2.2.2.1.2.2.2.1 k0_t55 (k0_off2434_inb v1 k0_t51 v228 v257 k0_hw35 k0_t55)
theorem k0_off2436_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2436 v1 k0_t51 v228 v257 k0_t55) a + S1x1x1x16x128.size a ≤ S2x2x108x128x128.size a := fun v1 k0_t51 v228 v257 k0_hw35 k0_t55 => k0_hw35.2.2.2.2.2.2.2.2.2.2.2.2.2.2.2.1.2.2.2.2.1 k0_t55
theorem k0_off2436_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2436 v1 k0_t51 v228 v257 k0_t55) S1x1x1x16x128.size (k0_off2436_inb v1 k0_t51 v228 v257 k0_hw35 k0_t55)).PackedRows (EltTy.packing .bf16) := fun v1 k0_t51 v228 v257 k0_hw35 k0_t55 => k0_hw35.2.2.2.2.2.2.2.2.2.2.2.2.2.2.2.1.2.2.2.2.2.1 k0_t55 (k0_off2436_inb v1 k0_t51 v228 v257 k0_hw35 k0_t55)
theorem k0_off2437_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2437 v1 k0_t51 v228 v257 k0_t55) a + S1x1x1x32x128.size a ≤ S2x2x8x1728x128.size a := fun v1 k0_t51 v228 v257 k0_hw35 k0_t55 => k0_hw35.2.2.2.2.2.2.2.2.2.2.2.2.2.2.2.1.2.2.2.2.2.2.1 k0_t55
theorem k0_off2439_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2439 v1 k0_t51 v228 v257 k0_t55) a + S1x1x1x16x128.size a ≤ S2x2x108x128x128.size a := fun v1 k0_t51 v228 v257 k0_hw35 k0_t55 => k0_hw35.2.2.2.2.2.2.2.2.2.2.2.2.2.2.2.1.2.2.2.2.2.2.2.1 k0_t55
theorem k0_off2439_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2439 v1 k0_t51 v228 v257 k0_t55) S1x1x1x16x128.size (k0_off2439_inb v1 k0_t51 v228 v257 k0_hw35 k0_t55)).PackedRows (EltTy.packing .bf16) := fun v1 k0_t51 v228 v257 k0_hw35 k0_t55 => k0_hw35.2.2.2.2.2.2.2.2.2.2.2.2.2.2.2.1.2.2.2.2.2.2.2.2.1 k0_t55 (k0_off2439_inb v1 k0_t51 v228 v257 k0_hw35 k0_t55)
theorem k0_off2441_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2441 v1 k0_t51 v228 v257 k0_t55) a + S1x1x1x16x128.size a ≤ S2x2x108x128x128.size a := fun v1 k0_t51 v228 v257 k0_hw35 k0_t55 => k0_hw35.2.2.2.2.2.2.2.2.2.2.2.2.2.2.2.1.2.2.2.2.2.2.2.2.2.1 k0_t55
theorem k0_off2441_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2441 v1 k0_t51 v228 v257 k0_t55) S1x1x1x16x128.size (k0_off2441_inb v1 k0_t51 v228 v257 k0_hw35 k0_t55)).PackedRows (EltTy.packing .bf16) := fun v1 k0_t51 v228 v257 k0_hw35 k0_t55 => k0_hw35.2.2.2.2.2.2.2.2.2.2.2.2.2.2.2.1.2.2.2.2.2.2.2.2.2.2.1 k0_t55 (k0_off2441_inb v1 k0_t51 v228 v257 k0_hw35 k0_t55)
theorem k0_off2442_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2442 v1 k0_t51 v228 v257 k0_t55) a + S1x1x1x32x128.size a ≤ S2x2x8x1728x128.size a := fun v1 k0_t51 v228 v257 k0_hw35 k0_t55 => k0_hw35.2.2.2.2.2.2.2.2.2.2.2.2.2.2.2.1.2.2.2.2.2.2.2.2.2.2.2.1 k0_t55
theorem k0_off2444_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2444 v1 k0_t51 v228 v257 k0_t55) a + S1x1x1x16x128.size a ≤ S2x2x108x128x128.size a := fun v1 k0_t51 v228 v257 k0_hw35 k0_t55 => k0_hw35.2.2.2.2.2.2.2.2.2.2.2.2.2.2.2.1.2.2.2.2.2.2.2.2.2.2.2.2.1 k0_t55
theorem k0_off2444_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2444 v1 k0_t51 v228 v257 k0_t55) S1x1x1x16x128.size (k0_off2444_inb v1 k0_t51 v228 v257 k0_hw35 k0_t55)).PackedRows (EltTy.packing .bf16) := fun v1 k0_t51 v228 v257 k0_hw35 k0_t55 => k0_hw35.2.2.2.2.2.2.2.2.2.2.2.2.2.2.2.1.2.2.2.2.2.2.2.2.2.2.2.2.2.1 k0_t55 (k0_off2444_inb v1 k0_t51 v228 v257 k0_hw35 k0_t55)
theorem k0_off2446_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2446 v1 k0_t51 v228 v257 k0_t55) a + S1x1x1x16x128.size a ≤ S2x2x108x128x128.size a := fun v1 k0_t51 v228 v257 k0_hw35 k0_t55 => k0_hw35.2.2.2.2.2.2.2.2.2.2.2.2.2.2.2.1.2.2.2.2.2.2.2.2.2.2.2.2.2.2.1 k0_t55
theorem k0_off2446_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2446 v1 k0_t51 v228 v257 k0_t55) S1x1x1x16x128.size (k0_off2446_inb v1 k0_t51 v228 v257 k0_hw35 k0_t55)).PackedRows (EltTy.packing .bf16) := fun v1 k0_t51 v228 v257 k0_hw35 k0_t55 => k0_hw35.2.2.2.2.2.2.2.2.2.2.2.2.2.2.2.1.2.2.2.2.2.2.2.2.2.2.2.2.2.2.2.1 k0_t55 (k0_off2446_inb v1 k0_t51 v228 v257 k0_hw35 k0_t55)
theorem k0_off2447_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2447 v1 k0_t51 v228 v257 k0_t55) a + S1x1x1x32x128.size a ≤ S2x2x8x1728x128.size a := fun v1 k0_t51 v228 v257 k0_hw35 k0_t55 => k0_hw35.2.2.2.2.2.2.2.2.2.2.2.2.2.2.2.1.2.2.2.2.2.2.2.2.2.2.2.2.2.2.2.2.1 k0_t55
theorem k0_off2449_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2449 v1 k0_t51 v228 v257 k0_t55) a + S1x1x1x16x128.size a ≤ S2x2x108x128x128.size a := fun v1 k0_t51 v228 v257 k0_hw35 k0_t55 => k0_hw35.2.2.2.2.2.2.2.2.2.2.2.2.2.2.2.1.2.2.2.2.2.2.2.2.2.2.2.2.2.2.2.2.2.1 k0_t55
theorem k0_off2449_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2449 v1 k0_t51 v228 v257 k0_t55) S1x1x1x16x128.size (k0_off2449_inb v1 k0_t51 v228 v257 k0_hw35 k0_t55)).PackedRows (EltTy.packing .bf16) := fun v1 k0_t51 v228 v257 k0_hw35 k0_t55 => k0_hw35.2.2.2.2.2.2.2.2.2.2.2.2.2.2.2.1.2.2.2.2.2.2.2.2.2.2.2.2.2.2.2.2.2.2.1 k0_t55 (k0_off2449_inb v1 k0_t51 v228 v257 k0_hw35 k0_t55)
theorem k0_off2451_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2451 v1 k0_t51 v228 v257 k0_t55) a + S1x1x1x16x128.size a ≤ S2x2x108x128x128.size a := fun v1 k0_t51 v228 v257 k0_hw35 k0_t55 => k0_hw35.2.2.2.2.2.2.2.2.2.2.2.2.2.2.2.1.2.2.2.2.2.2.2.2.2.2.2.2.2.2.2.2.2.2.2.1 k0_t55
theorem k0_off2451_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2451 v1 k0_t51 v228 v257 k0_t55) S1x1x1x16x128.size (k0_off2451_inb v1 k0_t51 v228 v257 k0_hw35 k0_t55)).PackedRows (EltTy.packing .bf16) := fun v1 k0_t51 v228 v257 k0_hw35 k0_t55 => k0_hw35.2.2.2.2.2.2.2.2.2.2.2.2.2.2.2.1.2.2.2.2.2.2.2.2.2.2.2.2.2.2.2.2.2.2.2.2.1 k0_t55 (k0_off2451_inb v1 k0_t51 v228 v257 k0_hw35 k0_t55)
theorem k0_off2452_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2452 v1 k0_t51 v228 v257 k0_t55) a + S1x1x1x32x128.size a ≤ S2x2x8x1728x128.size a := fun v1 k0_t51 v228 v257 k0_hw35 k0_t55 => k0_hw35.2.2.2.2.2.2.2.2.2.2.2.2.2.2.2.1.2.2.2.2.2.2.2.2.2.2.2.2.2.2.2.2.2.2.2.2.2.1 k0_t55
theorem k0_off2454_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2454 v1 k0_t51 v228 v257 k0_t55) a + S1x1x1x16x128.size a ≤ S2x2x108x128x128.size a := fun v1 k0_t51 v228 v257 k0_hw35 k0_t55 => k0_hw35.2.2.2.2.2.2.2.2.2.2.2.2.2.2.2.1.2.2.2.2.2.2.2.2.2.2.2.2.2.2.2.2.2.2.2.2.2.2.1 k0_t55
theorem k0_off2454_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2454 v1 k0_t51 v228 v257 k0_t55) S1x1x1x16x128.size (k0_off2454_inb v1 k0_t51 v228 v257 k0_hw35 k0_t55)).PackedRows (EltTy.packing .bf16) := fun v1 k0_t51 v228 v257 k0_hw35 k0_t55 => k0_hw35.2.2.2.2.2.2.2.2.2.2.2.2.2.2.2.1.2.2.2.2.2.2.2.2.2.2.2.2.2.2.2.2.2.2.2.2.2.2.2.1 k0_t55 (k0_off2454_inb v1 k0_t51 v228 v257 k0_hw35 k0_t55)
theorem k0_off2456_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2456 v1 k0_t51 v228 v257 k0_t55) a + S1x1x1x16x128.size a ≤ S2x2x108x128x128.size a := fun v1 k0_t51 v228 v257 k0_hw35 k0_t55 => k0_hw35.2.2.2.2.2.2.2.2.2.2.2.2.2.2.2.1.2.2.2.2.2.2.2.2.2.2.2.2.2.2.2.2.2.2.2.2.2.2.2.2.1 k0_t55
theorem k0_off2456_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2456 v1 k0_t51 v228 v257 k0_t55) S1x1x1x16x128.size (k0_off2456_inb v1 k0_t51 v228 v257 k0_hw35 k0_t55)).PackedRows (EltTy.packing .bf16) := fun v1 k0_t51 v228 v257 k0_hw35 k0_t55 => k0_hw35.2.2.2.2.2.2.2.2.2.2.2.2.2.2.2.1.2.2.2.2.2.2.2.2.2.2.2.2.2.2.2.2.2.2.2.2.2.2.2.2.2.1 k0_t55 (k0_off2456_inb v1 k0_t51 v228 v257 k0_hw35 k0_t55)
theorem k0_off2457_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2457 v1 k0_t51 v228 v257 k0_t55) a + S1x1x1x32x128.size a ≤ S2x2x8x1728x128.size a := fun v1 k0_t51 v228 v257 k0_hw35 k0_t55 => k0_hw35.2.2.2.2.2.2.2.2.2.2.2.2.2.2.2.1.2.2.2.2.2.2.2.2.2.2.2.2.2.2.2.2.2.2.2.2.2.2.2.2.2.2.1 k0_t55
theorem k0_off2459_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2459 v1 k0_t51 v228 v257 k0_t55) a + S1x1x1x16x128.size a ≤ S2x2x108x128x128.size a := fun v1 k0_t51 v228 v257 k0_hw35 k0_t55 => k0_hw35.2.2.2.2.2.2.2.2.2.2.2.2.2.2.2.1.2.2.2.2.2.2.2.2.2.2.2.2.2.2.2.2.2.2.2.2.2.2.2.2.2.2.2.1 k0_t55
theorem k0_off2459_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2459 v1 k0_t51 v228 v257 k0_t55) S1x1x1x16x128.size (k0_off2459_inb v1 k0_t51 v228 v257 k0_hw35 k0_t55)).PackedRows (EltTy.packing .bf16) := fun v1 k0_t51 v228 v257 k0_hw35 k0_t55 => k0_hw35.2.2.2.2.2.2.2.2.2.2.2.2.2.2.2.1.2.2.2.2.2.2.2.2.2.2.2.2.2.2.2.2.2.2.2.2.2.2.2.2.2.2.2.2.1 k0_t55 (k0_off2459_inb v1 k0_t51 v228 v257 k0_hw35 k0_t55)
theorem k0_off2461_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2461 v1 k0_t51 v228 v257 k0_t55) a + S1x1x1x16x128.size a ≤ S2x2x108x128x128.size a := fun v1 k0_t51 v228 v257 k0_hw35 k0_t55 => k0_hw35.2.2.2.2.2.2.2.2.2.2.2.2.2.2.2.1.2.2.2.2.2.2.2.2.2.2.2.2.2.2.2.2.2.2.2.2.2.2.2.2.2.2.2.2.2.1 k0_t55
theorem k0_off2461_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2461 v1 k0_t51 v228 v257 k0_t55) S1x1x1x16x128.size (k0_off2461_inb v1 k0_t51 v228 v257 k0_hw35 k0_t55)).PackedRows (EltTy.packing .bf16) := fun v1 k0_t51 v228 v257 k0_hw35 k0_t55 => k0_hw35.2.2.2.2.2.2.2.2.2.2.2.2.2.2.2.1.2.2.2.2.2.2.2.2.2.2.2.2.2.2.2.2.2.2.2.2.2.2.2.2.2.2.2.2.2.2.1 k0_t55 (k0_off2461_inb v1 k0_t51 v228 v257 k0_hw35 k0_t55)
theorem k0_off2462_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2462 v1 k0_t51 v228 v257 k0_t55) a + S1x1x1x32x128.size a ≤ S2x2x8x1728x128.size a := fun v1 k0_t51 v228 v257 k0_hw35 k0_t55 => k0_hw35.2.2.2.2.2.2.2.2.2.2.2.2.2.2.2.1.2.2.2.2.2.2.2.2.2.2.2.2.2.2.2.2.2.2.2.2.2.2.2.2.2.2.2.2.2.2.2 k0_t55
theorem k0_off2464_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2464 v1 k0_t51 v228 v257 k0_t55) a + S1x1x1x16x128.size a ≤ S2x2x108x128x128.size a := fun v1 k0_t51 v228 v257 k0_hw35 k0_t55 => k0_hw35.2.2.2.2.2.2.2.2.2.2.2.2.2.2.2.2.1.1 k0_t55
theorem k0_off2464_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2464 v1 k0_t51 v228 v257 k0_t55) S1x1x1x16x128.size (k0_off2464_inb v1 k0_t51 v228 v257 k0_hw35 k0_t55)).PackedRows (EltTy.packing .bf16) := fun v1 k0_t51 v228 v257 k0_hw35 k0_t55 => k0_hw35.2.2.2.2.2.2.2.2.2.2.2.2.2.2.2.2.1.2.1 k0_t55 (k0_off2464_inb v1 k0_t51 v228 v257 k0_hw35 k0_t55)
theorem k0_off2466_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2466 v1 k0_t51 v228 v257 k0_t55) a + S1x1x1x16x128.size a ≤ S2x2x108x128x128.size a := fun v1 k0_t51 v228 v257 k0_hw35 k0_t55 => k0_hw35.2.2.2.2.2.2.2.2.2.2.2.2.2.2.2.2.1.2.2.1 k0_t55
theorem k0_off2466_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2466 v1 k0_t51 v228 v257 k0_t55) S1x1x1x16x128.size (k0_off2466_inb v1 k0_t51 v228 v257 k0_hw35 k0_t55)).PackedRows (EltTy.packing .bf16) := fun v1 k0_t51 v228 v257 k0_hw35 k0_t55 => k0_hw35.2.2.2.2.2.2.2.2.2.2.2.2.2.2.2.2.1.2.2.2.1 k0_t55 (k0_off2466_inb v1 k0_t51 v228 v257 k0_hw35 k0_t55)
theorem k0_off2467_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2467 v1 k0_t51 v228 v257 k0_t55) a + S1x1x1x32x128.size a ≤ S2x2x8x1728x128.size a := fun v1 k0_t51 v228 v257 k0_hw35 k0_t55 => k0_hw35.2.2.2.2.2.2.2.2.2.2.2.2.2.2.2.2.1.2.2.2.2.1 k0_t55
theorem k0_off2469_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2469 v1 k0_t51 v228 v257 k0_t55) a + S1x1x1x16x128.size a ≤ S2x2x108x128x128.size a := fun v1 k0_t51 v228 v257 k0_hw35 k0_t55 => k0_hw35.2.2.2.2.2.2.2.2.2.2.2.2.2.2.2.2.1.2.2.2.2.2.1 k0_t55
theorem k0_off2469_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2469 v1 k0_t51 v228 v257 k0_t55) S1x1x1x16x128.size (k0_off2469_inb v1 k0_t51 v228 v257 k0_hw35 k0_t55)).PackedRows (EltTy.packing .bf16) := fun v1 k0_t51 v228 v257 k0_hw35 k0_t55 => k0_hw35.2.2.2.2.2.2.2.2.2.2.2.2.2.2.2.2.1.2.2.2.2.2.2.1 k0_t55 (k0_off2469_inb v1 k0_t51 v228 v257 k0_hw35 k0_t55)
theorem k0_off2471_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2471 v1 k0_t51 v228 v257 k0_t55) a + S1x1x1x16x128.size a ≤ S2x2x108x128x128.size a := fun v1 k0_t51 v228 v257 k0_hw35 k0_t55 => k0_hw35.2.2.2.2.2.2.2.2.2.2.2.2.2.2.2.2.1.2.2.2.2.2.2.2.1 k0_t55
theorem k0_off2471_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2471 v1 k0_t51 v228 v257 k0_t55) S1x1x1x16x128.size (k0_off2471_inb v1 k0_t51 v228 v257 k0_hw35 k0_t55)).PackedRows (EltTy.packing .bf16) := fun v1 k0_t51 v228 v257 k0_hw35 k0_t55 => k0_hw35.2.2.2.2.2.2.2.2.2.2.2.2.2.2.2.2.1.2.2.2.2.2.2.2.2.1 k0_t55 (k0_off2471_inb v1 k0_t51 v228 v257 k0_hw35 k0_t55)
theorem k0_off2472_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2472 v1 k0_t51 v228 v257 k0_t55) a + S1x1x1x32x128.size a ≤ S2x2x8x1728x128.size a := fun v1 k0_t51 v228 v257 k0_hw35 k0_t55 => k0_hw35.2.2.2.2.2.2.2.2.2.2.2.2.2.2.2.2.1.2.2.2.2.2.2.2.2.2.1 k0_t55
theorem k0_off2474_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2474 v1 k0_t51 v228 v257 k0_t55) a + S1x1x1x16x128.size a ≤ S2x2x108x128x128.size a := fun v1 k0_t51 v228 v257 k0_hw35 k0_t55 => k0_hw35.2.2.2.2.2.2.2.2.2.2.2.2.2.2.2.2.1.2.2.2.2.2.2.2.2.2.2.1 k0_t55
theorem k0_off2474_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2474 v1 k0_t51 v228 v257 k0_t55) S1x1x1x16x128.size (k0_off2474_inb v1 k0_t51 v228 v257 k0_hw35 k0_t55)).PackedRows (EltTy.packing .bf16) := fun v1 k0_t51 v228 v257 k0_hw35 k0_t55 => k0_hw35.2.2.2.2.2.2.2.2.2.2.2.2.2.2.2.2.1.2.2.2.2.2.2.2.2.2.2.2.1 k0_t55 (k0_off2474_inb v1 k0_t51 v228 v257 k0_hw35 k0_t55)
theorem k0_off2476_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2476 v1 k0_t51 v228 v257 k0_t55) a + S1x1x1x16x128.size a ≤ S2x2x108x128x128.size a := fun v1 k0_t51 v228 v257 k0_hw35 k0_t55 => k0_hw35.2.2.2.2.2.2.2.2.2.2.2.2.2.2.2.2.1.2.2.2.2.2.2.2.2.2.2.2.2.1 k0_t55
theorem k0_off2476_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2476 v1 k0_t51 v228 v257 k0_t55) S1x1x1x16x128.size (k0_off2476_inb v1 k0_t51 v228 v257 k0_hw35 k0_t55)).PackedRows (EltTy.packing .bf16) := fun v1 k0_t51 v228 v257 k0_hw35 k0_t55 => k0_hw35.2.2.2.2.2.2.2.2.2.2.2.2.2.2.2.2.1.2.2.2.2.2.2.2.2.2.2.2.2.2.1 k0_t55 (k0_off2476_inb v1 k0_t51 v228 v257 k0_hw35 k0_t55)
theorem k0_off2477_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2477 v1 k0_t51 v228 v257 k0_t55) a + S1x1x1x32x128.size a ≤ S2x2x8x1728x128.size a := fun v1 k0_t51 v228 v257 k0_hw35 k0_t55 => k0_hw35.2.2.2.2.2.2.2.2.2.2.2.2.2.2.2.2.1.2.2.2.2.2.2.2.2.2.2.2.2.2.2.1 k0_t55
theorem k0_off2479_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2479 v1 k0_t51 v228 v257 k0_t55) a + S1x1x1x16x128.size a ≤ S2x2x108x128x128.size a := fun v1 k0_t51 v228 v257 k0_hw35 k0_t55 => k0_hw35.2.2.2.2.2.2.2.2.2.2.2.2.2.2.2.2.1.2.2.2.2.2.2.2.2.2.2.2.2.2.2.2.1 k0_t55
theorem k0_off2479_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2479 v1 k0_t51 v228 v257 k0_t55) S1x1x1x16x128.size (k0_off2479_inb v1 k0_t51 v228 v257 k0_hw35 k0_t55)).PackedRows (EltTy.packing .bf16) := fun v1 k0_t51 v228 v257 k0_hw35 k0_t55 => k0_hw35.2.2.2.2.2.2.2.2.2.2.2.2.2.2.2.2.1.2.2.2.2.2.2.2.2.2.2.2.2.2.2.2.2.1 k0_t55 (k0_off2479_inb v1 k0_t51 v228 v257 k0_hw35 k0_t55)
theorem k0_off2481_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2481 v1 k0_t51 v228 v257 k0_t55) a + S1x1x1x16x128.size a ≤ S2x2x108x128x128.size a := fun v1 k0_t51 v228 v257 k0_hw35 k0_t55 => k0_hw35.2.2.2.2.2.2.2.2.2.2.2.2.2.2.2.2.1.2.2.2.2.2.2.2.2.2.2.2.2.2.2.2.2.2.1 k0_t55
theorem k0_off2481_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2481 v1 k0_t51 v228 v257 k0_t55) S1x1x1x16x128.size (k0_off2481_inb v1 k0_t51 v228 v257 k0_hw35 k0_t55)).PackedRows (EltTy.packing .bf16) := fun v1 k0_t51 v228 v257 k0_hw35 k0_t55 => k0_hw35.2.2.2.2.2.2.2.2.2.2.2.2.2.2.2.2.1.2.2.2.2.2.2.2.2.2.2.2.2.2.2.2.2.2.2.1 k0_t55 (k0_off2481_inb v1 k0_t51 v228 v257 k0_hw35 k0_t55)
theorem k0_off2482_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2482 v1 k0_t51 v228 v257 k0_t55) a + S1x1x1x32x128.size a ≤ S2x2x8x1728x128.size a := fun v1 k0_t51 v228 v257 k0_hw35 k0_t55 => k0_hw35.2.2.2.2.2.2.2.2.2.2.2.2.2.2.2.2.1.2.2.2.2.2.2.2.2.2.2.2.2.2.2.2.2.2.2.2.1 k0_t55
theorem k0_off2484_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2484 v1 k0_t51 v228 v257 k0_t55) a + S1x1x1x16x128.size a ≤ S2x2x108x128x128.size a := fun v1 k0_t51 v228 v257 k0_hw35 k0_t55 => k0_hw35.2.2.2.2.2.2.2.2.2.2.2.2.2.2.2.2.1.2.2.2.2.2.2.2.2.2.2.2.2.2.2.2.2.2.2.2.2.1 k0_t55
theorem k0_off2484_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2484 v1 k0_t51 v228 v257 k0_t55) S1x1x1x16x128.size (k0_off2484_inb v1 k0_t51 v228 v257 k0_hw35 k0_t55)).PackedRows (EltTy.packing .bf16) := fun v1 k0_t51 v228 v257 k0_hw35 k0_t55 => k0_hw35.2.2.2.2.2.2.2.2.2.2.2.2.2.2.2.2.1.2.2.2.2.2.2.2.2.2.2.2.2.2.2.2.2.2.2.2.2.2.1 k0_t55 (k0_off2484_inb v1 k0_t51 v228 v257 k0_hw35 k0_t55)
theorem k0_off2486_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2486 v1 k0_t51 v228 v257 k0_t55) a + S1x1x1x16x128.size a ≤ S2x2x108x128x128.size a := fun v1 k0_t51 v228 v257 k0_hw35 k0_t55 => k0_hw35.2.2.2.2.2.2.2.2.2.2.2.2.2.2.2.2.1.2.2.2.2.2.2.2.2.2.2.2.2.2.2.2.2.2.2.2.2.2.2.1 k0_t55
theorem k0_off2486_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2486 v1 k0_t51 v228 v257 k0_t55) S1x1x1x16x128.size (k0_off2486_inb v1 k0_t51 v228 v257 k0_hw35 k0_t55)).PackedRows (EltTy.packing .bf16) := fun v1 k0_t51 v228 v257 k0_hw35 k0_t55 => k0_hw35.2.2.2.2.2.2.2.2.2.2.2.2.2.2.2.2.1.2.2.2.2.2.2.2.2.2.2.2.2.2.2.2.2.2.2.2.2.2.2.2.1 k0_t55 (k0_off2486_inb v1 k0_t51 v228 v257 k0_hw35 k0_t55)
theorem k0_off2487_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2487 v1 k0_t51 v228 v257 k0_t55) a + S1x1x1x32x128.size a ≤ S2x2x8x1728x128.size a := fun v1 k0_t51 v228 v257 k0_hw35 k0_t55 => k0_hw35.2.2.2.2.2.2.2.2.2.2.2.2.2.2.2.2.1.2.2.2.2.2.2.2.2.2.2.2.2.2.2.2.2.2.2.2.2.2.2.2.2.1 k0_t55
theorem k0_off2489_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2489 v1 k0_t51 v228 v257 k0_t55) a + S1x1x1x16x128.size a ≤ S2x2x108x128x128.size a := fun v1 k0_t51 v228 v257 k0_hw35 k0_t55 => k0_hw35.2.2.2.2.2.2.2.2.2.2.2.2.2.2.2.2.1.2.2.2.2.2.2.2.2.2.2.2.2.2.2.2.2.2.2.2.2.2.2.2.2.2.1 k0_t55
theorem k0_off2489_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2489 v1 k0_t51 v228 v257 k0_t55) S1x1x1x16x128.size (k0_off2489_inb v1 k0_t51 v228 v257 k0_hw35 k0_t55)).PackedRows (EltTy.packing .bf16) := fun v1 k0_t51 v228 v257 k0_hw35 k0_t55 => k0_hw35.2.2.2.2.2.2.2.2.2.2.2.2.2.2.2.2.1.2.2.2.2.2.2.2.2.2.2.2.2.2.2.2.2.2.2.2.2.2.2.2.2.2.2.1 k0_t55 (k0_off2489_inb v1 k0_t51 v228 v257 k0_hw35 k0_t55)
theorem k0_off2491_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2491 v1 k0_t51 v228 v257 k0_t55) a + S1x1x1x16x128.size a ≤ S2x2x108x128x128.size a := fun v1 k0_t51 v228 v257 k0_hw35 k0_t55 => k0_hw35.2.2.2.2.2.2.2.2.2.2.2.2.2.2.2.2.1.2.2.2.2.2.2.2.2.2.2.2.2.2.2.2.2.2.2.2.2.2.2.2.2.2.2.2.1 k0_t55
theorem k0_off2491_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2491 v1 k0_t51 v228 v257 k0_t55) S1x1x1x16x128.size (k0_off2491_inb v1 k0_t51 v228 v257 k0_hw35 k0_t55)).PackedRows (EltTy.packing .bf16) := fun v1 k0_t51 v228 v257 k0_hw35 k0_t55 => k0_hw35.2.2.2.2.2.2.2.2.2.2.2.2.2.2.2.2.1.2.2.2.2.2.2.2.2.2.2.2.2.2.2.2.2.2.2.2.2.2.2.2.2.2.2.2.2.1 k0_t55 (k0_off2491_inb v1 k0_t51 v228 v257 k0_hw35 k0_t55)
theorem k0_off2492_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2492 v1 k0_t51 v228 v257 k0_t55) a + S1x1x1x32x128.size a ≤ S2x2x8x1728x128.size a := fun v1 k0_t51 v228 v257 k0_hw35 k0_t55 => k0_hw35.2.2.2.2.2.2.2.2.2.2.2.2.2.2.2.2.1.2.2.2.2.2.2.2.2.2.2.2.2.2.2.2.2.2.2.2.2.2.2.2.2.2.2.2.2.2.1 k0_t55
theorem k0_off2494_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2494 v1 k0_t51 v228 v257 k0_t55) a + S1x1x1x16x128.size a ≤ S2x2x108x128x128.size a := fun v1 k0_t51 v228 v257 k0_hw35 k0_t55 => k0_hw35.2.2.2.2.2.2.2.2.2.2.2.2.2.2.2.2.1.2.2.2.2.2.2.2.2.2.2.2.2.2.2.2.2.2.2.2.2.2.2.2.2.2.2.2.2.2.2.1 k0_t55
theorem k0_off2494_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2494 v1 k0_t51 v228 v257 k0_t55) S1x1x1x16x128.size (k0_off2494_inb v1 k0_t51 v228 v257 k0_hw35 k0_t55)).PackedRows (EltTy.packing .bf16) := fun v1 k0_t51 v228 v257 k0_hw35 k0_t55 => k0_hw35.2.2.2.2.2.2.2.2.2.2.2.2.2.2.2.2.1.2.2.2.2.2.2.2.2.2.2.2.2.2.2.2.2.2.2.2.2.2.2.2.2.2.2.2.2.2.2.2 k0_t55 (k0_off2494_inb v1 k0_t51 v228 v257 k0_hw35 k0_t55)
theorem k0_off2496_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2496 v1 k0_t51 v228 v257 k0_t55) a + S1x1x1x16x128.size a ≤ S2x2x108x128x128.size a := fun v1 k0_t51 v228 v257 k0_hw35 k0_t55 => k0_hw35.2.2.2.2.2.2.2.2.2.2.2.2.2.2.2.2.2.1.1 k0_t55
theorem k0_off2496_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2496 v1 k0_t51 v228 v257 k0_t55) S1x1x1x16x128.size (k0_off2496_inb v1 k0_t51 v228 v257 k0_hw35 k0_t55)).PackedRows (EltTy.packing .bf16) := fun v1 k0_t51 v228 v257 k0_hw35 k0_t55 => k0_hw35.2.2.2.2.2.2.2.2.2.2.2.2.2.2.2.2.2.1.2.1 k0_t55 (k0_off2496_inb v1 k0_t51 v228 v257 k0_hw35 k0_t55)
theorem k0_off2497_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2497 v1 k0_t51 v228 v257 k0_t55) a + S1x1x1x32x128.size a ≤ S2x2x8x1728x128.size a := fun v1 k0_t51 v228 v257 k0_hw35 k0_t55 => k0_hw35.2.2.2.2.2.2.2.2.2.2.2.2.2.2.2.2.2.1.2.2.1 k0_t55
theorem k0_off2499_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2499 v1 k0_t51 v228 v257 k0_t55) a + S1x1x1x16x128.size a ≤ S2x2x108x128x128.size a := fun v1 k0_t51 v228 v257 k0_hw35 k0_t55 => k0_hw35.2.2.2.2.2.2.2.2.2.2.2.2.2.2.2.2.2.1.2.2.2.1 k0_t55
theorem k0_off2499_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2499 v1 k0_t51 v228 v257 k0_t55) S1x1x1x16x128.size (k0_off2499_inb v1 k0_t51 v228 v257 k0_hw35 k0_t55)).PackedRows (EltTy.packing .bf16) := fun v1 k0_t51 v228 v257 k0_hw35 k0_t55 => k0_hw35.2.2.2.2.2.2.2.2.2.2.2.2.2.2.2.2.2.1.2.2.2.2.1 k0_t55 (k0_off2499_inb v1 k0_t51 v228 v257 k0_hw35 k0_t55)
theorem k0_off2501_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2501 v1 k0_t51 v228 v257 k0_t55) a + S1x1x1x16x128.size a ≤ S2x2x108x128x128.size a := fun v1 k0_t51 v228 v257 k0_hw35 k0_t55 => k0_hw35.2.2.2.2.2.2.2.2.2.2.2.2.2.2.2.2.2.1.2.2.2.2.2.1 k0_t55
theorem k0_off2501_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2501 v1 k0_t51 v228 v257 k0_t55) S1x1x1x16x128.size (k0_off2501_inb v1 k0_t51 v228 v257 k0_hw35 k0_t55)).PackedRows (EltTy.packing .bf16) := fun v1 k0_t51 v228 v257 k0_hw35 k0_t55 => k0_hw35.2.2.2.2.2.2.2.2.2.2.2.2.2.2.2.2.2.1.2.2.2.2.2.2.1 k0_t55 (k0_off2501_inb v1 k0_t51 v228 v257 k0_hw35 k0_t55)
theorem k0_off2502_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2502 v1 k0_t51 v228 v257 k0_t55) a + S1x1x1x32x128.size a ≤ S2x2x8x1728x128.size a := fun v1 k0_t51 v228 v257 k0_hw35 k0_t55 => k0_hw35.2.2.2.2.2.2.2.2.2.2.2.2.2.2.2.2.2.1.2.2.2.2.2.2.2.1 k0_t55
theorem k0_off2504_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2504 v1 k0_t51 v228 v257 k0_t55) a + S1x1x1x16x128.size a ≤ S2x2x108x128x128.size a := fun v1 k0_t51 v228 v257 k0_hw35 k0_t55 => k0_hw35.2.2.2.2.2.2.2.2.2.2.2.2.2.2.2.2.2.1.2.2.2.2.2.2.2.2.1 k0_t55
theorem k0_off2504_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2504 v1 k0_t51 v228 v257 k0_t55) S1x1x1x16x128.size (k0_off2504_inb v1 k0_t51 v228 v257 k0_hw35 k0_t55)).PackedRows (EltTy.packing .bf16) := fun v1 k0_t51 v228 v257 k0_hw35 k0_t55 => k0_hw35.2.2.2.2.2.2.2.2.2.2.2.2.2.2.2.2.2.1.2.2.2.2.2.2.2.2.2.1 k0_t55 (k0_off2504_inb v1 k0_t51 v228 v257 k0_hw35 k0_t55)
theorem k0_off2506_inb : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), ∀ a, (k0_off2506 v1 k0_t51 v228 v257 k0_t55) a + S1x1x1x16x128.size a ≤ S2x2x108x128x128.size a := fun v1 k0_t51 v228 v257 k0_hw35 k0_t55 => k0_hw35.2.2.2.2.2.2.2.2.2.2.2.2.2.2.2.2.2.1.2.2.2.2.2.2.2.2.2.2.1 k0_t55
theorem k0_off2506_packedbf16 : ∀ (v1 : BitVec 32) (k0_t51 : Fin (k0_t51_loop v1).trips) (v228 : BitVec 32) (v257 : BitVec 32) (k0_hw35 : k0_chk35 v1 k0_t51 v228 v257) (k0_t55 : Fin (k0_t55_loop v228 v257).trips), (Rect.unit (s := S2x2x108x128x128) (k0_off2506 v1 k0_t51 v228 v257 k0_t55) S1x1x1x16x128.size (k0_off2506_inb v1 k0_t51 v228 v257 k0_hw35 k0_t55)).PackedRows (EltTy.packing .bf16) := fun v1 k0_t51 v228 v257 k0_hw35 k0_t55 => k0_hw35.2.2.2.2.2.2.2.2.2.2.2.2.2.2.2.2.2.1.2.2.2.2.2.2.2.2.2.2.2.1 k0_t55 (k0_off2506_inb v1 k0_t51 v228 v257 k0_hw35 k0_t55)
theorem k0_t56_ok : ∀ (v1 : BitVec 32) (k0_t51 : Fin (k0_t51_loop v1).trips) (v228 : BitVec 32) (v257 : BitVec 32) (k0_hw35 : k0_chk35 v1 k0_t51 v228 v257), (k0_t56_loop v228 v257).OK := fun v1 k0_t51 v228 v257 k0_hw35 => k0_hw35.2.2.2.2.2.2.2.2.2.2.2.2.2.2.2.2.2.1.2.2.2.2.2.2.2.2.2.2.2.2.1
theorem k0_mult20_dvd : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), 16 ∣ (k0_mult20 v228 v257 k0_t56).toNat := fun v1 k0_t51 v228 v257 k0_hw35 k0_t56 => k0_hw35.2.2.2.2.2.2.2.2.2.2.2.2.2.2.2.2.2.1.2.2.2.2.2.2.2.2.2.2.2.2.2.1 k0_t56
theorem k0_off2507_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2507 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.1.2.2.2.2.2.2.2.2.2.2.2.2.2.2.1 k0_t56
theorem k0_off2507_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2507 v1 k0_t51 v228 v257 k0_t56) S1x1x1x16x128.size (k0_off2507_inb v1 k0_t51 v228 v257 k0_hw35 k0_t56)).PackedRows (EltTy.packing .bf16) := fun v1 k0_t51 v228 v257 k0_hw35 k0_t56 => k0_hw35.2.2.2.2.2.2.2.2.2.2.2.2.2.2.2.2.2.1.2.2.2.2.2.2.2.2.2.2.2.2.2.2.2.1 k0_t56 (k0_off2507_inb v1 k0_t51 v228 v257 k0_hw35 k0_t56)
theorem k0_off2508_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2508 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.1.2.2.2.2.2.2.2.2.2.2.2.2.2.2.2.2.1 k0_t56
theorem k0_off2508_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2508 v1 k0_t51 v228 v257 k0_t56) S1x1x1x16x128.size (k0_off2508_inb v1 k0_t51 v228 v257 k0_hw35 k0_t56)).PackedRows (EltTy.packing .bf16) := fun v1 k0_t51 v228 v257 k0_hw35 k0_t56 => k0_hw35.2.2.2.2.2.2.2.2.2.2.2.2.2.2.2.2.2.1.2.2.2.2.2.2.2.2.2.2.2.2.2.2.2.2.2.1 k0_t56 (k0_off2508_inb v1 k0_t51 v228 v257 k0_hw35 k0_t56)
theorem k0_off2509_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2509 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.1.2.2.2.2.2.2.2.2.2.2.2.2.2.2.2.2.2.2.1 k0_t56
theorem k0_off2509_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2509 v1 k0_t51 v228 v257 k0_t56) S1x1x1x16x128.size (k0_off2509_inb v1 k0_t51 v228 v257 k0_hw35 k0_t56)).PackedRows (EltTy.packing .bf16) := fun v1 k0_t51 v228 v257 k0_hw35 k0_t56 => k0_hw35.2.2.2.2.2.2.2.2.2.2.2.2.2.2.2.2.2.1.2.2.2.2.2.2.2.2.2.2.2.2.2.2.2.2.2.2.2.1 k0_t56 (k0_off2509_inb v1 k0_t51 v228 v257 k0_hw35 k0_t56)
theorem k0_off2510_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2510 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.1.2.2.2.2.2.2.2.2.2.2.2.2.2.2.2.2.2.2.2.2.1 k0_t56
theorem k0_off2510_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2510 v1 k0_t51 v228 v257 k0_t56) S1x1x1x16x128.size (k0_off2510_inb v1 k0_t51 v228 v257 k0_hw35 k0_t56)).PackedRows (EltTy.packing .bf16) := fun v1 k0_t51 v228 v257 k0_hw35 k0_t56 => k0_hw35.2.2.2.2.2.2.2.2.2.2.2.2.2.2.2.2.2.1.2.2.2.2.2.2.2.2.2.2.2.2.2.2.2.2.2.2.2.2.2.1 k0_t56 (k0_off2510_inb v1 k0_t51 v228 v257 k0_hw35 k0_t56)
theorem k0_off2511_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2511 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.1.2.2.2.2.2.2.2.2.2.2.2.2.2.2.2.2.2.2.2.2.2.2.1 k0_t56
theorem k0_off2511_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2511 v1 k0_t51 v228 v257 k0_t56) S1x1x1x16x128.size (k0_off2511_inb v1 k0_t51 v228 v257 k0_hw35 k0_t56)).PackedRows (EltTy.packing .bf16) := fun v1 k0_t51 v228 v257 k0_hw35 k0_t56 => k0_hw35.2.2.2.2.2.2.2.2.2.2.2.2.2.2.2.2.2.1.2.2.2.2.2.2.2.2.2.2.2.2.2.2.2.2.2.2.2.2.2.2.2.1 k0_t56 (k0_off2511_inb v1 k0_t51 v228 v257 k0_hw35 k0_t56)
theorem k0_off2512_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2512 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.1.2.2.2.2.2.2.2.2.2.2.2.2.2.2.2.2.2.2.2.2.2.2.2.2.1 k0_t56
theorem k0_off2512_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2512 v1 k0_t51 v228 v257 k0_t56) S1x1x1x16x128.size (k0_off2512_inb v1 k0_t51 v228 v257 k0_hw35 k0_t56)).PackedRows (EltTy.packing .bf16) := fun v1 k0_t51 v228 v257 k0_hw35 k0_t56 => k0_hw35.2.2.2.2.2.2.2.2.2.2.2.2.2.2.2.2.2.1.2.2.2.2.2.2.2.2.2.2.2.2.2.2.2.2.2.2.2.2.2.2.2.2.2.1 k0_t56 (k0_off2512_inb v1 k0_t51 v228 v257 k0_hw35 k0_t56)
theorem k0_off2513_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2513 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.1.2.2.2.2.2.2.2.2.2.2.2.2.2.2.2.2.2.2.2.2.2.2.2.2.2.2.1 k0_t56
theorem k0_off2513_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2513 v1 k0_t51 v228 v257 k0_t56) S1x1x1x16x128.size (k0_off2513_inb v1 k0_t51 v228 v257 k0_hw35 k0_t56)).PackedRows (EltTy.packing .bf16) := fun v1 k0_t51 v228 v257 k0_hw35 k0_t56 => k0_hw35.2.2.2.2.2.2.2.2.2.2.2.2.2.2.2.2.2.1.2.2.2.2.2.2.2.2.2.2.2.2.2.2.2.2.2.2.2.2.2.2.2.2.2.2.2.1 k0_t56 (k0_off2513_inb v1 k0_t51 v228 v257 k0_hw35 k0_t56)
theorem k0_off2514_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2514 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.1.2.2.2.2.2.2.2.2.2.2.2.2.2.2.2.2.2.2.2.2.2.2.2.2.2.2.2.2.1 k0_t56
theorem k0_off2514_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2514 v1 k0_t51 v228 v257 k0_t56) S1x1x1x16x128.size (k0_off2514_inb v1 k0_t51 v228 v257 k0_hw35 k0_t56)).PackedRows (EltTy.packing .bf16) := fun v1 k0_t51 v228 v257 k0_hw35 k0_t56 => k0_hw35.2.2.2.2.2.2.2.2.2.2.2.2.2.2.2.2.2.1.2.2.2.2.2.2.2.2.2.2.2.2.2.2.2.2.2.2.2.2.2.2.2.2.2.2.2.2.2.1 k0_t56 (k0_off2514_inb v1 k0_t51 v228 v257 k0_hw35 k0_t56)
theorem k0_off2515_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2515 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.1.2.2.2.2.2.2.2.2.2.2.2.2.2.2.2.2.2.2.2.2.2.2.2.2.2.2.2.2.2.2.1 k0_t56
theorem k0_off2515_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2515 v1 k0_t51 v228 v257 k0_t56) S1x1x1x16x128.size (k0_off2515_inb v1 k0_t51 v228 v257 k0_hw35 k0_t56)).PackedRows (EltTy.packing .bf16) := fun v1 k0_t51 v228 v257 k0_hw35 k0_t56 => k0_hw35.2.2.2.2.2.2.2.2.2.2.2.2.2.2.2.2.2.1.2.2.2.2.2.2.2.2.2.2.2.2.2.2.2.2.2.2.2.2.2.2.2.2.2.2.2.2.2.2.2 k0_t56 (k0_off2515_inb v1 k0_t51 v228 v257 k0_hw35 k0_t56)
theorem k0_off2516_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2516 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.1.1 k0_t56
theorem k0_off2516_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2516 v1 k0_t51 v228 v257 k0_t56) S1x1x1x16x128.size (k0_off2516_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.1.2.1 k0_t56 (k0_off2516_inb v1 k0_t51 v228 v257 k0_hw35 k0_t56)
theorem k0_off2517_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2517 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.1.2.2.1 k0_t56
theorem k0_off2517_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2517 v1 k0_t51 v228 v257 k0_t56) S1x1x1x16x128.size (k0_off2517_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.1.2.2.2.1 k0_t56 (k0_off2517_inb v1 k0_t51 v228 v257 k0_hw35 k0_t56)
theorem k0_off2518_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2518 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.1.2.2.2.2.1 k0_t56
theorem k0_off2518_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2518 v1 k0_t51 v228 v257 k0_t56) S1x1x1x16x128.size (k0_off2518_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.1.2.2.2.2.2.1 k0_t56 (k0_off2518_inb v1 k0_t51 v228 v257 k0_hw35 k0_t56)
theorem k0_off2519_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2519 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.1.2.2.2.2.2.2.1 k0_t56
theorem k0_off2519_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2519 v1 k0_t51 v228 v257 k0_t56) S1x1x1x16x128.size (k0_off2519_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.1.2.2.2.2.2.2.2.1 k0_t56 (k0_off2519_inb v1 k0_t51 v228 v257 k0_hw35 k0_t56)
theorem k0_off2520_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2520 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.1.2.2.2.2.2.2.2.2.1 k0_t56
theorem k0_off2520_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2520 v1 k0_t51 v228 v257 k0_t56) S1x1x1x16x128.size (k0_off2520_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.1.2.2.2.2.2.2.2.2.2.1 k0_t56 (k0_off2520_inb v1 k0_t51 v228 v257 k0_hw35 k0_t56)
theorem k0_off2521_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2521 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.1.2.2.2.2.2.2.2.2.2.2.1 k0_t56
theorem k0_off2521_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2521 v1 k0_t51 v228 v257 k0_t56) S1x1x1x16x128.size (k0_off2521_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.1.2.2.2.2.2.2.2.2.2.2.2.1 k0_t56 (k0_off2521_inb v1 k0_t51 v228 v257 k0_hw35 k0_t56)
theorem k0_off2522_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2522 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.1.2.2.2.2.2.2.2.2.2.2.2.2.1 k0_t56
theorem k0_off2522_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2522 v1 k0_t51 v228 v257 k0_t56) S1x1x1x16x128.size (k0_off2522_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.1.2.2.2.2.2.2.2.2.2.2.2.2.2.1 k0_t56 (k0_off2522_inb v1 k0_t51 v228 v257 k0_hw35 k0_t56)
theorem k0_off2523_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2523 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.1.2.2.2.2.2.2.2.2.2.2.2.2.2.2.1 k0_t56
theorem k0_off2523_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2523 v1 k0_t51 v228 v257 k0_t56) S1x1x1x16x128.size (k0_off2523_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.1.2.2.2.2.2.2.2.2.2.2.2.2.2.2.2.1 k0_t56 (k0_off2523_inb v1 k0_t51 v228 v257 k0_hw35 k0_t56)
theorem k0_off2524_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2524 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.1.2.2.2.2.2.2.2.2.2.2.2.2.2.2.2.2.1 k0_t56
theorem k0_off2524_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2524 v1 k0_t51 v228 v257 k0_t56) S1x1x1x16x128.size (k0_off2524_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.1.2.2.2.2.2.2.2.2.2.2.2.2.2.2.2.2.2.1 k0_t56 (k0_off2524_inb v1 k0_t51 v228 v257 k0_hw35 k0_t56)
theorem k0_off2525_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2525 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.1.2.2.2.2.2.2.2.2.2.2.2.2.2.2.2.2.2.2.1 k0_t56
theorem k0_off2525_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2525 v1 k0_t51 v228 v257 k0_t56) S1x1x1x16x128.size (k0_off2525_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.1.2.2.2.2.2.2.2.2.2.2.2.2.2.2.2.2.2.2.2.1 k0_t56 (k0_off2525_inb v1 k0_t51 v228 v257 k0_hw35 k0_t56)
theorem k0_off2526_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2526 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.1.2.2.2.2.2.2.2.2.2.2.2.2.2.2.2.2.2.2.2.2.1 k0_t56
theorem k0_off2526_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2526 v1 k0_t51 v228 v257 k0_t56) S1x1x1x16x128.size (k0_off2526_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.1.2.2.2.2.2.2.2.2.2.2.2.2.2.2.2.2.2.2.2.2.2.1 k0_t56 (k0_off2526_inb v1 k0_t51 v228 v257 k0_hw35 k0_t56)
theorem k0_off2527_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2527 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.1.2.2.2.2.2.2.2.2.2.2.2.2.2.2.2.2.2.2.2.2.2.2.1 k0_t56
theorem k0_off2527_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2527 v1 k0_t51 v228 v257 k0_t56) S1x1x1x16x128.size (k0_off2527_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.1.2.2.2.2.2.2.2.2.2.2.2.2.2.2.2.2.2.2.2.2.2.2.2.1 k0_t56 (k0_off2527_inb v1 k0_t51 v228 v257 k0_hw35 k0_t56)
theorem k0_off2528_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2528 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.1.2.2.2.2.2.2.2.2.2.2.2.2.2.2.2.2.2.2.2.2.2.2.2.2.1 k0_t56
theorem k0_off2528_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2528 v1 k0_t51 v228 v257 k0_t56) S1x1x1x16x128.size (k0_off2528_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.1.2.2.2.2.2.2.2.2.2.2.2.2.2.2.2.2.2.2.2.2.2.2.2.2.2.1 k0_t56 (k0_off2528_inb v1 k0_t51 v228 v257 k0_hw35 k0_t56)
theorem k0_off2529_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2529 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.1.2.2.2.2.2.2.2.2.2.2.2.2.2.2.2.2.2.2.2.2.2.2.2.2.2.2.1 k0_t56
theorem k0_off2529_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2529 v1 k0_t51 v228 v257 k0_t56) S1x1x1x16x128.size (k0_off2529_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.1.2.2.2.2.2.2.2.2.2.2.2.2.2.2.2.2.2.2.2.2.2.2.2.2.2.2.2.1 k0_t56 (k0_off2529_inb v1 k0_t51 v228 v257 k0_hw35 k0_t56)
theorem k0_off2530_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2530 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.1.2.2.2.2.2.2.2.2.2.2.2.2.2.2.2.2.2.2.2.2.2.2.2.2.2.2.2.2.1 k0_t56
theorem k0_off2530_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2530 v1 k0_t51 v228 v257 k0_t56) S1x1x1x16x128.size (k0_off2530_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.1.2.2.2.2.2.2.2.2.2.2.2.2.2.2.2.2.2.2.2.2.2.2.2.2.2.2.2.2.2.1 k0_t56 (k0_off2530_inb v1 k0_t51 v228 v257 k0_hw35 k0_t56)
theorem k0_off2531_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2531 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.1.2.2.2.2.2.2.2.2.2.2.2.2.2.2.2.2.2.2.2.2.2.2.2.2.2.2.2.2.2.2.1 k0_t56
theorem k0_off2531_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2531 v1 k0_t51 v228 v257 k0_t56) S1x1x1x16x128.size (k0_off2531_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.1.2.2.2.2.2.2.2.2.2.2.2.2.2.2.2.2.2.2.2.2.2.2.2.2.2.2.2.2.2.2.2 k0_t56 (k0_off2531_inb v1 k0_t51 v228 v257 k0_hw35 k0_t56)
theorem k0_off2532_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2532 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.1.1 k0_t56
theorem k0_off2532_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2532 v1 k0_t51 v228 v257 k0_t56) S1x1x1x16x128.size (k0_off2532_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.1.2.1 k0_t56 (k0_off2532_inb v1 k0_t51 v228 v257 k0_hw35 k0_t56)
theorem k0_off2533_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2533 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.1.2.2.1 k0_t56
theorem k0_off2533_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2533 v1 k0_t51 v228 v257 k0_t56) S1x1x1x16x128.size (k0_off2533_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.1.2.2.2.1 k0_t56 (k0_off2533_inb v1 k0_t51 v228 v257 k0_hw35 k0_t56)
theorem k0_off2534_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2534 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.1.2.2.2.2.1 k0_t56
theorem k0_off2534_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2534 v1 k0_t51 v228 v257 k0_t56) S1x1x1x16x128.size (k0_off2534_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.1.2.2.2.2.2.1 k0_t56 (k0_off2534_inb v1 k0_t51 v228 v257 k0_hw35 k0_t56)
theorem k0_off2535_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2535 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.1.2.2.2.2.2.2.1 k0_t56
theorem k0_off2535_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2535 v1 k0_t51 v228 v257 k0_t56) S1x1x1x16x128.size (k0_off2535_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.1.2.2.2.2.2.2.2.1 k0_t56 (k0_off2535_inb v1 k0_t51 v228 v257 k0_hw35 k0_t56)
theorem k0_off2536_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2536 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.1.2.2.2.2.2.2.2.2.1 k0_t56
theorem k0_off2536_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2536 v1 k0_t51 v228 v257 k0_t56) S1x1x1x16x128.size (k0_off2536_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.1.2.2.2.2.2.2.2.2.2.1 k0_t56 (k0_off2536_inb v1 k0_t51 v228 v257 k0_hw35 k0_t56)
theorem k0_off2537_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2537 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.1.2.2.2.2.2.2.2.2.2.2.1 k0_t56
theorem k0_off2537_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2537 v1 k0_t51 v228 v257 k0_t56) S1x1x1x16x128.size (k0_off2537_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.1.2.2.2.2.2.2.2.2.2.2.2.1 k0_t56 (k0_off2537_inb v1 k0_t51 v228 v257 k0_hw35 k0_t56)
theorem k0_off2538_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2538 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.1.2.2.2.2.2.2.2.2.2.2.2.2.1 k0_t56
theorem k0_off2538_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2538 v1 k0_t51 v228 v257 k0_t56) S1x1x1x16x128.size (k0_off2538_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.1.2.2.2.2.2.2.2.2.2.2.2.2.2.1 k0_t56 (k0_off2538_inb v1 k0_t51 v228 v257 k0_hw35 k0_t56)
theorem k0_off2539_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2539 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.1.2.2.2.2.2.2.2.2.2.2.2.2.2.2.1 k0_t56
theorem k0_off2539_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2539 v1 k0_t51 v228 v257 k0_t56) S1x1x1x16x128.size (k0_off2539_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.1.2.2.2.2.2.2.2.2.2.2.2.2.2.2.2.1 k0_t56 (k0_off2539_inb v1 k0_t51 v228 v257 k0_hw35 k0_t56)
theorem k0_off2540_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2540 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.1.2.2.2.2.2.2.2.2.2.2.2.2.2.2.2.2.1 k0_t56
theorem k0_off2540_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2540 v1 k0_t51 v228 v257 k0_t56) S1x1x1x16x128.size (k0_off2540_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.1.2.2.2.2.2.2.2.2.2.2.2.2.2.2.2.2.2.1 k0_t56 (k0_off2540_inb v1 k0_t51 v228 v257 k0_hw35 k0_t56)
theorem k0_off2541_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2541 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.1.2.2.2.2.2.2.2.2.2.2.2.2.2.2.2.2.2.2.1 k0_t56
theorem k0_off2541_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2541 v1 k0_t51 v228 v257 k0_t56) S1x1x1x16x128.size (k0_off2541_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.1.2.2.2.2.2.2.2.2.2.2.2.2.2.2.2.2.2.2.2.1 k0_t56 (k0_off2541_inb v1 k0_t51 v228 v257 k0_hw35 k0_t56)
theorem k0_off2542_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2542 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.1.2.2.2.2.2.2.2.2.2.2.2.2.2.2.2.2.2.2.2.2.1 k0_t56
theorem k0_off2542_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2542 v1 k0_t51 v228 v257 k0_t56) S1x1x1x16x128.size (k0_off2542_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.1.2.2.2.2.2.2.2.2.2.2.2.2.2.2.2.2.2.2.2.2.2.1 k0_t56 (k0_off2542_inb v1 k0_t51 v228 v257 k0_hw35 k0_t56)
theorem k0_off2543_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2543 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.1.2.2.2.2.2.2.2.2.2.2.2.2.2.2.2.2.2.2.2.2.2.2.1 k0_t56
theorem k0_off2543_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2543 v1 k0_t51 v228 v257 k0_t56) S1x1x1x16x128.size (k0_off2543_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.1.2.2.2.2.2.2.2.2.2.2.2.2.2.2.2.2.2.2.2.2.2.2.2.1 k0_t56 (k0_off2543_inb v1 k0_t51 v228 v257 k0_hw35 k0_t56)
theorem k0_off2544_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2544 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.1.2.2.2.2.2.2.2.2.2.2.2.2.2.2.2.2.2.2.2.2.2.2.2.2.1 k0_t56
theorem k0_off2544_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2544 v1 k0_t51 v228 v257 k0_t56) S1x1x1x16x128.size (k0_off2544_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.1.2.2.2.2.2.2.2.2.2.2.2.2.2.2.2.2.2.2.2.2.2.2.2.2.2.1 k0_t56 (k0_off2544_inb v1 k0_t51 v228 v257 k0_hw35 k0_t56)
theorem k0_off2545_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2545 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.1.2.2.2.2.2.2.2.2.2.2.2.2.2.2.2.2.2.2.2.2.2.2.2.2.2.2.1 k0_t56
theorem k0_off2545_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2545 v1 k0_t51 v228 v257 k0_t56) S1x1x1x16x128.size (k0_off2545_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.1.2.2.2.2.2.2.2.2.2.2.2.2.2.2.2.2.2.2.2.2.2.2.2.2.2.2.2.1 k0_t56 (k0_off2545_inb v1 k0_t51 v228 v257 k0_hw35 k0_t56)
theorem k0_off2546_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2546 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.1.2.2.2.2.2.2.2.2.2.2.2.2.2.2.2.2.2.2.2.2.2.2.2.2.2.2.2.2.1 k0_t56
theorem k0_off2546_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2546 v1 k0_t51 v228 v257 k0_t56) S1x1x1x16x128.size (k0_off2546_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.1.2.2.2.2.2.2.2.2.2.2.2.2.2.2.2.2.2.2.2.2.2.2.2.2.2.2.2.2.2.1 k0_t56 (k0_off2546_inb v1 k0_t51 v228 v257 k0_hw35 k0_t56)
theorem k0_off2547_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2547 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.1.2.2.2.2.2.2.2.2.2.2.2.2.2.2.2.2.2.2.2.2.2.2.2.2.2.2.2.2.2.2.1 k0_t56
theorem k0_off2547_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2547 v1 k0_t51 v228 v257 k0_t56) S1x1x1x16x128.size (k0_off2547_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.1.2.2.2.2.2.2.2.2.2.2.2.2.2.2.2.2.2.2.2.2.2.2.2.2.2.2.2.2.2.2.2 k0_t56 (k0_off2547_inb v1 k0_t51 v228 v257 k0_hw35 k0_t56)
theorem k0_off2548_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2548 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.1.1 k0_t56
theorem k0_off2548_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2548 v1 k0_t51 v228 v257 k0_t56) S1x1x1x16x128.size (k0_off2548_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.1.2.1 k0_t56 (k0_off2548_inb v1 k0_t51 v228 v257 k0_hw35 k0_t56)
theorem k0_off2549_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2549 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.1.2.2.1 k0_t56
theorem k0_off2549_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2549 v1 k0_t51 v228 v257 k0_t56) S1x1x1x16x128.size (k0_off2549_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.1.2.2.2.1 k0_t56 (k0_off2549_inb v1 k0_t51 v228 v257 k0_hw35 k0_t56)
theorem k0_off2550_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2550 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.1.2.2.2.2.1 k0_t56
theorem k0_off2550_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2550 v1 k0_t51 v228 v257 k0_t56) S1x1x1x16x128.size (k0_off2550_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.1.2.2.2.2.2.1 k0_t56 (k0_off2550_inb v1 k0_t51 v228 v257 k0_hw35 k0_t56)
theorem k0_off2551_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2551 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.1.2.2.2.2.2.2.1 k0_t56
theorem k0_off2551_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2551 v1 k0_t51 v228 v257 k0_t56) S1x1x1x16x128.size (k0_off2551_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.1.2.2.2.2.2.2.2.1 k0_t56 (k0_off2551_inb v1 k0_t51 v228 v257 k0_hw35 k0_t56)
theorem k0_off2552_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2552 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.1.2.2.2.2.2.2.2.2.1 k0_t56
theorem k0_off2552_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2552 v1 k0_t51 v228 v257 k0_t56) S1x1x1x16x128.size (k0_off2552_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.1.2.2.2.2.2.2.2.2.2.1 k0_t56 (k0_off2552_inb v1 k0_t51 v228 v257 k0_hw35 k0_t56)
theorem k0_off2553_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2553 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.1.2.2.2.2.2.2.2.2.2.2.1 k0_t56
theorem k0_off2553_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2553 v1 k0_t51 v228 v257 k0_t56) S1x1x1x16x128.size (k0_off2553_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.1.2.2.2.2.2.2.2.2.2.2.2.1 k0_t56 (k0_off2553_inb v1 k0_t51 v228 v257 k0_hw35 k0_t56)
theorem k0_off2554_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2554 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.1.2.2.2.2.2.2.2.2.2.2.2.2.1 k0_t56
theorem k0_off2554_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2554 v1 k0_t51 v228 v257 k0_t56) S1x1x1x16x128.size (k0_off2554_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.1.2.2.2.2.2.2.2.2.2.2.2.2.2.1 k0_t56 (k0_off2554_inb v1 k0_t51 v228 v257 k0_hw35 k0_t56)
theorem k0_off2555_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2555 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.1.2.2.2.2.2.2.2.2.2.2.2.2.2.2.1 k0_t56
theorem k0_off2555_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2555 v1 k0_t51 v228 v257 k0_t56) S1x1x1x16x128.size (k0_off2555_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.1.2.2.2.2.2.2.2.2.2.2.2.2.2.2.2.1 k0_t56 (k0_off2555_inb v1 k0_t51 v228 v257 k0_hw35 k0_t56)
theorem k0_off2556_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2556 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.1.2.2.2.2.2.2.2.2.2.2.2.2.2.2.2.2.1 k0_t56
theorem k0_off2556_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2556 v1 k0_t51 v228 v257 k0_t56) S1x1x1x16x128.size (k0_off2556_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.1.2.2.2.2.2.2.2.2.2.2.2.2.2.2.2.2.2.1 k0_t56 (k0_off2556_inb v1 k0_t51 v228 v257 k0_hw35 k0_t56)
theorem k0_off2557_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2557 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.1.2.2.2.2.2.2.2.2.2.2.2.2.2.2.2.2.2.2.1 k0_t56
theorem k0_off2557_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2557 v1 k0_t51 v228 v257 k0_t56) S1x1x1x16x128.size (k0_off2557_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.1.2.2.2.2.2.2.2.2.2.2.2.2.2.2.2.2.2.2.2.1 k0_t56 (k0_off2557_inb v1 k0_t51 v228 v257 k0_hw35 k0_t56)
theorem k0_off2558_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2558 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.1.2.2.2.2.2.2.2.2.2.2.2.2.2.2.2.2.2.2.2.2.1 k0_t56
theorem k0_off2558_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2558 v1 k0_t51 v228 v257 k0_t56) S1x1x1x16x128.size (k0_off2558_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.1.2.2.2.2.2.2.2.2.2.2.2.2.2.2.2.2.2.2.2.2.2.1 k0_t56 (k0_off2558_inb v1 k0_t51 v228 v257 k0_hw35 k0_t56)
theorem k0_off2559_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2559 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.1.2.2.2.2.2.2.2.2.2.2.2.2.2.2.2.2.2.2.2.2.2.2.1 k0_t56
theorem k0_off2559_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2559 v1 k0_t51 v228 v257 k0_t56) S1x1x1x16x128.size (k0_off2559_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.1.2.2.2.2.2.2.2.2.2.2.2.2.2.2.2.2.2.2.2.2.2.2.2.1 k0_t56 (k0_off2559_inb v1 k0_t51 v228 v257 k0_hw35 k0_t56)
theorem k0_off2560_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2560 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.1.2.2.2.2.2.2.2.2.2.2.2.2.2.2.2.2.2.2.2.2.2.2.2.2.1 k0_t56
theorem k0_off2560_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2560 v1 k0_t51 v228 v257 k0_t56) S1x1x1x16x128.size (k0_off2560_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.1.2.2.2.2.2.2.2.2.2.2.2.2.2.2.2.2.2.2.2.2.2.2.2.2.2.1 k0_t56 (k0_off2560_inb v1 k0_t51 v228 v257 k0_hw35 k0_t56)
theorem k0_off2561_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2561 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.1.2.2.2.2.2.2.2.2.2.2.2.2.2.2.2.2.2.2.2.2.2.2.2.2.2.2.1 k0_t56
theorem k0_off2561_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2561 v1 k0_t51 v228 v257 k0_t56) S1x1x1x16x128.size (k0_off2561_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.1.2.2.2.2.2.2.2.2.2.2.2.2.2.2.2.2.2.2.2.2.2.2.2.2.2.2.2.1 k0_t56 (k0_off2561_inb v1 k0_t51 v228 v257 k0_hw35 k0_t56)
theorem k0_off2562_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2562 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.1.2.2.2.2.2.2.2.2.2.2.2.2.2.2.2.2.2.2.2.2.2.2.2.2.2.2.2.2.1 k0_t56
theorem k0_off2562_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2562 v1 k0_t51 v228 v257 k0_t56) S1x1x1x16x128.size (k0_off2562_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.1.2.2.2.2.2.2.2.2.2.2.2.2.2.2.2.2.2.2.2.2.2.2.2.2.2.2.2.2.2.1 k0_t56 (k0_off2562_inb v1 k0_t51 v228 v257 k0_hw35 k0_t56)
theorem k0_off2563_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2563 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.1.2.2.2.2.2.2.2.2.2.2.2.2.2.2.2.2.2.2.2.2.2.2.2.2.2.2.2.2.2.2.1 k0_t56
theorem k0_off2563_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2563 v1 k0_t51 v228 v257 k0_t56) S1x1x1x16x128.size (k0_off2563_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.1.2.2.2.2.2.2.2.2.2.2.2.2.2.2.2.2.2.2.2.2.2.2.2.2.2.2.2.2.2.2.2 k0_t56 (k0_off2563_inb v1 k0_t51 v228 v257 k0_hw35 k0_t56)
theorem k0_off2564_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2564 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.1.1 k0_t56
theorem k0_off2564_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2564 v1 k0_t51 v228 v257 k0_t56) S1x1x1x16x128.size (k0_off2564_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.1.2.1 k0_t56 (k0_off2564_inb v1 k0_t51 v228 v257 k0_hw35 k0_t56)
theorem k0_off2565_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2565 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.1.2.2.1 k0_t56
theorem k0_off2565_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2565 v1 k0_t51 v228 v257 k0_t56) S1x1x1x16x128.size (k0_off2565_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.1.2.2.2.1 k0_t56 (k0_off2565_inb v1 k0_t51 v228 v257 k0_hw35 k0_t56)
theorem k0_off2566_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2566 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.1.2.2.2.2.1 k0_t56
theorem k0_off2566_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2566 v1 k0_t51 v228 v257 k0_t56) S1x1x1x16x128.size (k0_off2566_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.1.2.2.2.2.2.1 k0_t56 (k0_off2566_inb v1 k0_t51 v228 v257 k0_hw35 k0_t56)
theorem k0_off2567_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2567 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.1.2.2.2.2.2.2.1 k0_t56
theorem k0_off2567_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2567 v1 k0_t51 v228 v257 k0_t56) S1x1x1x16x128.size (k0_off2567_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.1.2.2.2.2.2.2.2.1 k0_t56 (k0_off2567_inb v1 k0_t51 v228 v257 k0_hw35 k0_t56)
theorem k0_off2568_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2568 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.1.2.2.2.2.2.2.2.2.1 k0_t56
theorem k0_off2568_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2568 v1 k0_t51 v228 v257 k0_t56) S1x1x1x16x128.size (k0_off2568_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.1.2.2.2.2.2.2.2.2.2.1 k0_t56 (k0_off2568_inb v1 k0_t51 v228 v257 k0_hw35 k0_t56)
theorem k0_off2569_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2569 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.1.2.2.2.2.2.2.2.2.2.2.1 k0_t56
theorem k0_off2569_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2569 v1 k0_t51 v228 v257 k0_t56) S1x1x1x16x128.size (k0_off2569_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.1.2.2.2.2.2.2.2.2.2.2.2.1 k0_t56 (k0_off2569_inb v1 k0_t51 v228 v257 k0_hw35 k0_t56)
theorem k0_off2570_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2570 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.1.2.2.2.2.2.2.2.2.2.2.2.2.1 k0_t56
theorem k0_off2570_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2570 v1 k0_t51 v228 v257 k0_t56) S1x1x1x16x128.size (k0_off2570_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.1.2.2.2.2.2.2.2.2.2.2.2.2.2.1 k0_t56 (k0_off2570_inb v1 k0_t51 v228 v257 k0_hw35 k0_t56)
theorem k0_off2571_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2571 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.1.2.2.2.2.2.2.2.2.2.2.2.2.2.2.1 k0_t56
theorem k0_off2571_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2571 v1 k0_t51 v228 v257 k0_t56) S1x1x1x16x128.size (k0_off2571_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.1.2.2.2.2.2.2.2.2.2.2.2.2.2.2.2.1 k0_t56 (k0_off2571_inb v1 k0_t51 v228 v257 k0_hw35 k0_t56)
theorem k0_off2572_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2572 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.1.2.2.2.2.2.2.2.2.2.2.2.2.2.2.2.2.1 k0_t56
theorem k0_off2572_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2572 v1 k0_t51 v228 v257 k0_t56) S1x1x1x16x128.size (k0_off2572_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.1.2.2.2.2.2.2.2.2.2.2.2.2.2.2.2.2.2.1 k0_t56 (k0_off2572_inb v1 k0_t51 v228 v257 k0_hw35 k0_t56)
theorem k0_off2573_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2573 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.1.2.2.2.2.2.2.2.2.2.2.2.2.2.2.2.2.2.2.1 k0_t56
theorem k0_off2573_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2573 v1 k0_t51 v228 v257 k0_t56) S1x1x1x16x128.size (k0_off2573_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.1.2.2.2.2.2.2.2.2.2.2.2.2.2.2.2.2.2.2.2.1 k0_t56 (k0_off2573_inb v1 k0_t51 v228 v257 k0_hw35 k0_t56)
theorem k0_off2574_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2574 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.1.2.2.2.2.2.2.2.2.2.2.2.2.2.2.2.2.2.2.2.2.1 k0_t56
theorem k0_off2574_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2574 v1 k0_t51 v228 v257 k0_t56) S1x1x1x16x128.size (k0_off2574_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.1.2.2.2.2.2.2.2.2.2.2.2.2.2.2.2.2.2.2.2.2.2.1 k0_t56 (k0_off2574_inb v1 k0_t51 v228 v257 k0_hw35 k0_t56)
theorem k0_off2575_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2575 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.1.2.2.2.2.2.2.2.2.2.2.2.2.2.2.2.2.2.2.2.2.2.2.1 k0_t56
theorem k0_off2575_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2575 v1 k0_t51 v228 v257 k0_t56) S1x1x1x16x128.size (k0_off2575_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.1.2.2.2.2.2.2.2.2.2.2.2.2.2.2.2.2.2.2.2.2.2.2.2.1 k0_t56 (k0_off2575_inb v1 k0_t51 v228 v257 k0_hw35 k0_t56)
theorem k0_off2576_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2576 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.1.2.2.2.2.2.2.2.2.2.2.2.2.2.2.2.2.2.2.2.2.2.2.2.2.1 k0_t56
theorem k0_off2576_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2576 v1 k0_t51 v228 v257 k0_t56) S1x1x1x16x128.size (k0_off2576_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.1.2.2.2.2.2.2.2.2.2.2.2.2.2.2.2.2.2.2.2.2.2.2.2.2.2.1 k0_t56 (k0_off2576_inb v1 k0_t51 v228 v257 k0_hw35 k0_t56)
theorem k0_off2577_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2577 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.1.2.2.2.2.2.2.2.2.2.2.2.2.2.2.2.2.2.2.2.2.2.2.2.2.2.2.1 k0_t56
theorem k0_off2577_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2577 v1 k0_t51 v228 v257 k0_t56) S1x1x1x16x128.size (k0_off2577_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.1.2.2.2.2.2.2.2.2.2.2.2.2.2.2.2.2.2.2.2.2.2.2.2.2.2.2.2.1 k0_t56 (k0_off2577_inb v1 k0_t51 v228 v257 k0_hw35 k0_t56)
theorem k0_off2578_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2578 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.1.2.2.2.2.2.2.2.2.2.2.2.2.2.2.2.2.2.2.2.2.2.2.2.2.2.2.2.2.1 k0_t56
theorem k0_off2578_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2578 v1 k0_t51 v228 v257 k0_t56) S1x1x1x16x128.size (k0_off2578_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.1.2.2.2.2.2.2.2.2.2.2.2.2.2.2.2.2.2.2.2.2.2.2.2.2.2.2.2.2.2.1 k0_t56 (k0_off2578_inb v1 k0_t51 v228 v257 k0_hw35 k0_t56)
theorem k0_off2579_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2579 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.1.2.2.2.2.2.2.2.2.2.2.2.2.2.2.2.2.2.2.2.2.2.2.2.2.2.2.2.2.2.2.1 k0_t56
theorem k0_off2579_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2579 v1 k0_t51 v228 v257 k0_t56) S1x1x1x16x128.size (k0_off2579_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.1.2.2.2.2.2.2.2.2.2.2.2.2.2.2.2.2.2.2.2.2.2.2.2.2.2.2.2.2.2.2.2 k0_t56 (k0_off2579_inb v1 k0_t51 v228 v257 k0_hw35 k0_t56)
theorem k0_off2580_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2580 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.1.1 k0_t56
theorem k0_off2580_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2580 v1 k0_t51 v228 v257 k0_t56) S1x1x1x16x128.size (k0_off2580_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.1.2.1 k0_t56 (k0_off2580_inb v1 k0_t51 v228 v257 k0_hw35 k0_t56)
theorem k0_off2581_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2581 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.1.2.2.1 k0_t56
theorem k0_off2581_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2581 v1 k0_t51 v228 v257 k0_t56) S1x1x1x16x128.size (k0_off2581_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.1.2.2.2.1 k0_t56 (k0_off2581_inb v1 k0_t51 v228 v257 k0_hw35 k0_t56)
theorem k0_off2582_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2582 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.1.2.2.2.2.1 k0_t56
theorem k0_off2582_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2582 v1 k0_t51 v228 v257 k0_t56) S1x1x1x16x128.size (k0_off2582_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.1.2.2.2.2.2.1 k0_t56 (k0_off2582_inb v1 k0_t51 v228 v257 k0_hw35 k0_t56)
theorem k0_off2583_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2583 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.1.2.2.2.2.2.2.1 k0_t56
theorem k0_off2583_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2583 v1 k0_t51 v228 v257 k0_t56) S1x1x1x16x128.size (k0_off2583_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.1.2.2.2.2.2.2.2.1 k0_t56 (k0_off2583_inb v1 k0_t51 v228 v257 k0_hw35 k0_t56)
theorem k0_off2584_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2584 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.1.2.2.2.2.2.2.2.2.1 k0_t56
theorem k0_off2584_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2584 v1 k0_t51 v228 v257 k0_t56) S1x1x1x16x128.size (k0_off2584_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.1.2.2.2.2.2.2.2.2.2.1 k0_t56 (k0_off2584_inb v1 k0_t51 v228 v257 k0_hw35 k0_t56)
theorem k0_off2585_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2585 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.1.2.2.2.2.2.2.2.2.2.2.1 k0_t56
theorem k0_off2585_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2585 v1 k0_t51 v228 v257 k0_t56) S1x1x1x16x128.size (k0_off2585_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.1.2.2.2.2.2.2.2.2.2.2.2.1 k0_t56 (k0_off2585_inb v1 k0_t51 v228 v257 k0_hw35 k0_t56)
theorem k0_off2586_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2586 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.1.2.2.2.2.2.2.2.2.2.2.2.2.1 k0_t56
theorem k0_off2586_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2586 v1 k0_t51 v228 v257 k0_t56) S1x1x1x16x128.size (k0_off2586_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.1.2.2.2.2.2.2.2.2.2.2.2.2.2.1 k0_t56 (k0_off2586_inb v1 k0_t51 v228 v257 k0_hw35 k0_t56)
theorem k0_off2587_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2587 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.1.2.2.2.2.2.2.2.2.2.2.2.2.2.2.1 k0_t56
theorem k0_off2587_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2587 v1 k0_t51 v228 v257 k0_t56) S1x1x1x16x128.size (k0_off2587_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.1.2.2.2.2.2.2.2.2.2.2.2.2.2.2.2.1 k0_t56 (k0_off2587_inb v1 k0_t51 v228 v257 k0_hw35 k0_t56)
theorem k0_off2588_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2588 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.1.2.2.2.2.2.2.2.2.2.2.2.2.2.2.2.2.1 k0_t56
theorem k0_off2588_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2588 v1 k0_t51 v228 v257 k0_t56) S1x1x1x16x128.size (k0_off2588_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.1.2.2.2.2.2.2.2.2.2.2.2.2.2.2.2.2.2.1 k0_t56 (k0_off2588_inb v1 k0_t51 v228 v257 k0_hw35 k0_t56)
theorem k0_off2589_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2589 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.1.2.2.2.2.2.2.2.2.2.2.2.2.2.2.2.2.2.2.1 k0_t56
theorem k0_off2589_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2589 v1 k0_t51 v228 v257 k0_t56) S1x1x1x16x128.size (k0_off2589_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.1.2.2.2.2.2.2.2.2.2.2.2.2.2.2.2.2.2.2.2.1 k0_t56 (k0_off2589_inb v1 k0_t51 v228 v257 k0_hw35 k0_t56)
theorem k0_off2590_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2590 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.1.2.2.2.2.2.2.2.2.2.2.2.2.2.2.2.2.2.2.2.2.1 k0_t56
theorem k0_off2590_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2590 v1 k0_t51 v228 v257 k0_t56) S1x1x1x16x128.size (k0_off2590_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.1.2.2.2.2.2.2.2.2.2.2.2.2.2.2.2.2.2.2.2.2.2.1 k0_t56 (k0_off2590_inb v1 k0_t51 v228 v257 k0_hw35 k0_t56)
theorem k0_off2591_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2591 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.1.2.2.2.2.2.2.2.2.2.2.2.2.2.2.2.2.2.2.2.2.2.2.1 k0_t56
theorem k0_off2591_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2591 v1 k0_t51 v228 v257 k0_t56) S1x1x1x16x128.size (k0_off2591_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.1.2.2.2.2.2.2.2.2.2.2.2.2.2.2.2.2.2.2.2.2.2.2.2.1 k0_t56 (k0_off2591_inb v1 k0_t51 v228 v257 k0_hw35 k0_t56)
theorem k0_off2592_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2592 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.1.2.2.2.2.2.2.2.2.2.2.2.2.2.2.2.2.2.2.2.2.2.2.2.2.1 k0_t56
theorem k0_off2592_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2592 v1 k0_t51 v228 v257 k0_t56) S1x1x1x16x128.size (k0_off2592_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.1.2.2.2.2.2.2.2.2.2.2.2.2.2.2.2.2.2.2.2.2.2.2.2.2.2.1 k0_t56 (k0_off2592_inb v1 k0_t51 v228 v257 k0_hw35 k0_t56)
theorem k0_off2593_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2593 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.1.2.2.2.2.2.2.2.2.2.2.2.2.2.2.2.2.2.2.2.2.2.2.2.2.2.2.1 k0_t56
theorem k0_off2593_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2593 v1 k0_t51 v228 v257 k0_t56) S1x1x1x16x128.size (k0_off2593_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.1.2.2.2.2.2.2.2.2.2.2.2.2.2.2.2.2.2.2.2.2.2.2.2.2.2.2.2.1 k0_t56 (k0_off2593_inb v1 k0_t51 v228 v257 k0_hw35 k0_t56)
theorem k0_off2594_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2594 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.1.2.2.2.2.2.2.2.2.2.2.2.2.2.2.2.2.2.2.2.2.2.2.2.2.2.2.2.2.1 k0_t56
theorem k0_off2594_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2594 v1 k0_t51 v228 v257 k0_t56) S1x1x1x16x128.size (k0_off2594_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.1.2.2.2.2.2.2.2.2.2.2.2.2.2.2.2.2.2.2.2.2.2.2.2.2.2.2.2.2.2.1 k0_t56 (k0_off2594_inb v1 k0_t51 v228 v257 k0_hw35 k0_t56)
theorem k0_off2595_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2595 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.1.2.2.2.2.2.2.2.2.2.2.2.2.2.2.2.2.2.2.2.2.2.2.2.2.2.2.2.2.2.2.1 k0_t56
theorem k0_off2595_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2595 v1 k0_t51 v228 v257 k0_t56) S1x1x1x16x128.size (k0_off2595_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.1.2.2.2.2.2.2.2.2.2.2.2.2.2.2.2.2.2.2.2.2.2.2.2.2.2.2.2.2.2.2.2 k0_t56 (k0_off2595_inb v1 k0_t51 v228 v257 k0_hw35 k0_t56)
theorem k0_off2596_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2596 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.2.1.1 k0_t56
theorem k0_off2596_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2596 v1 k0_t51 v228 v257 k0_t56) S1x1x1x16x128.size (k0_off2596_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.2.1.2.1 k0_t56 (k0_off2596_inb v1 k0_t51 v228 v257 k0_hw35 k0_t56)
theorem k0_off2597_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2597 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.2.1.2.2.1 k0_t56
theorem k0_off2597_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2597 v1 k0_t51 v228 v257 k0_t56) S1x1x1x16x128.size (k0_off2597_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.2.1.2.2.2.1 k0_t56 (k0_off2597_inb v1 k0_t51 v228 v257 k0_hw35 k0_t56)
theorem k0_off2598_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2598 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.2.1.2.2.2.2.1 k0_t56
theorem k0_off2598_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2598 v1 k0_t51 v228 v257 k0_t56) S1x1x1x16x128.size (k0_off2598_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.2.1.2.2.2.2.2.1 k0_t56 (k0_off2598_inb v1 k0_t51 v228 v257 k0_hw35 k0_t56)
theorem k0_off2599_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2599 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.2.1.2.2.2.2.2.2.1 k0_t56
theorem k0_off2599_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2599 v1 k0_t51 v228 v257 k0_t56) S1x1x1x16x128.size (k0_off2599_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.2.1.2.2.2.2.2.2.2.1 k0_t56 (k0_off2599_inb v1 k0_t51 v228 v257 k0_hw35 k0_t56)
theorem k0_off2600_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2600 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.2.1.2.2.2.2.2.2.2.2.1 k0_t56
theorem k0_off2600_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2600 v1 k0_t51 v228 v257 k0_t56) S1x1x1x16x128.size (k0_off2600_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.2.1.2.2.2.2.2.2.2.2.2.1 k0_t56 (k0_off2600_inb v1 k0_t51 v228 v257 k0_hw35 k0_t56)
theorem k0_off2601_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2601 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.2.1.2.2.2.2.2.2.2.2.2.2.1 k0_t56
theorem k0_off2601_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2601 v1 k0_t51 v228 v257 k0_t56) S1x1x1x16x128.size (k0_off2601_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.2.1.2.2.2.2.2.2.2.2.2.2.2.1 k0_t56 (k0_off2601_inb v1 k0_t51 v228 v257 k0_hw35 k0_t56)
theorem k0_off2602_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2602 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.2.1.2.2.2.2.2.2.2.2.2.2.2.2.1 k0_t56
theorem k0_off2602_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2602 v1 k0_t51 v228 v257 k0_t56) S1x1x1x16x128.size (k0_off2602_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.2.1.2.2.2.2.2.2.2.2.2.2.2.2.2.1 k0_t56 (k0_off2602_inb v1 k0_t51 v228 v257 k0_hw35 k0_t56)
theorem k0_off2603_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2603 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.2.1.2.2.2.2.2.2.2.2.2.2.2.2.2.2.1 k0_t56
theorem k0_off2603_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2603 v1 k0_t51 v228 v257 k0_t56) S1x1x1x16x128.size (k0_off2603_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.2.1.2.2.2.2.2.2.2.2.2.2.2.2.2.2.2.1 k0_t56 (k0_off2603_inb v1 k0_t51 v228 v257 k0_hw35 k0_t56)
theorem k0_off2604_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2604 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.2.1.2.2.2.2.2.2.2.2.2.2.2.2.2.2.2.2.1 k0_t56
theorem k0_off2604_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2604 v1 k0_t51 v228 v257 k0_t56) S1x1x1x16x128.size (k0_off2604_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.2.1.2.2.2.2.2.2.2.2.2.2.2.2.2.2.2.2.2.1 k0_t56 (k0_off2604_inb v1 k0_t51 v228 v257 k0_hw35 k0_t56)
theorem k0_off2605_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2605 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.2.1.2.2.2.2.2.2.2.2.2.2.2.2.2.2.2.2.2.2.1 k0_t56
theorem k0_off2605_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2605 v1 k0_t51 v228 v257 k0_t56) S1x1x1x16x128.size (k0_off2605_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.2.1.2.2.2.2.2.2.2.2.2.2.2.2.2.2.2.2.2.2.2.1 k0_t56 (k0_off2605_inb v1 k0_t51 v228 v257 k0_hw35 k0_t56)
theorem k0_off2606_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2606 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.2.1.2.2.2.2.2.2.2.2.2.2.2.2.2.2.2.2.2.2.2.2.1 k0_t56
theorem k0_off2606_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2606 v1 k0_t51 v228 v257 k0_t56) S1x1x1x16x128.size (k0_off2606_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.2.1.2.2.2.2.2.2.2.2.2.2.2.2.2.2.2.2.2.2.2.2.2.1 k0_t56 (k0_off2606_inb v1 k0_t51 v228 v257 k0_hw35 k0_t56)
theorem k0_off2607_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2607 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.2.1.2.2.2.2.2.2.2.2.2.2.2.2.2.2.2.2.2.2.2.2.2.2.1 k0_t56
theorem k0_off2607_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2607 v1 k0_t51 v228 v257 k0_t56) S1x1x1x16x128.size (k0_off2607_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.2.1.2.2.2.2.2.2.2.2.2.2.2.2.2.2.2.2.2.2.2.2.2.2.2.1 k0_t56 (k0_off2607_inb v1 k0_t51 v228 v257 k0_hw35 k0_t56)
theorem k0_off2608_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2608 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.2.1.2.2.2.2.2.2.2.2.2.2.2.2.2.2.2.2.2.2.2.2.2.2.2.2.1 k0_t56
theorem k0_off2608_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2608 v1 k0_t51 v228 v257 k0_t56) S1x1x1x16x128.size (k0_off2608_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.2.1.2.2.2.2.2.2.2.2.2.2.2.2.2.2.2.2.2.2.2.2.2.2.2.2.2.1 k0_t56 (k0_off2608_inb v1 k0_t51 v228 v257 k0_hw35 k0_t56)
theorem k0_off2609_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2609 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.2.1.2.2.2.2.2.2.2.2.2.2.2.2.2.2.2.2.2.2.2.2.2.2.2.2.2.2.1 k0_t56
theorem k0_off2609_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2609 v1 k0_t51 v228 v257 k0_t56) S1x1x1x16x128.size (k0_off2609_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.2.1.2.2.2.2.2.2.2.2.2.2.2.2.2.2.2.2.2.2.2.2.2.2.2.2.2.2.2.1 k0_t56 (k0_off2609_inb v1 k0_t51 v228 v257 k0_hw35 k0_t56)
theorem k0_off2610_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2610 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.2.1.2.2.2.2.2.2.2.2.2.2.2.2.2.2.2.2.2.2.2.2.2.2.2.2.2.2.2.2.1 k0_t56
theorem k0_off2610_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2610 v1 k0_t51 v228 v257 k0_t56) S1x1x1x16x128.size (k0_off2610_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.2.1.2.2.2.2.2.2.2.2.2.2.2.2.2.2.2.2.2.2.2.2.2.2.2.2.2.2.2.2.2.1 k0_t56 (k0_off2610_inb v1 k0_t51 v228 v257 k0_hw35 k0_t56)
theorem k0_off2611_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2611 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.2.1.2.2.2.2.2.2.2.2.2.2.2.2.2.2.2.2.2.2.2.2.2.2.2.2.2.2.2.2.2.2.1 k0_t56
theorem k0_off2611_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2611 v1 k0_t51 v228 v257 k0_t56) S1x1x1x16x128.size (k0_off2611_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.2.1.2.2.2.2.2.2.2.2.2.2.2.2.2.2.2.2.2.2.2.2.2.2.2.2.2.2.2.2.2.2.2 k0_t56 (k0_off2611_inb v1 k0_t51 v228 v257 k0_hw35 k0_t56)
theorem k0_off2612_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2612 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.2.2.1.1 k0_t56
theorem k0_off2612_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2612 v1 k0_t51 v228 v257 k0_t56) S1x1x1x16x128.size (k0_off2612_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.2.2.1.2.1 k0_t56 (k0_off2612_inb v1 k0_t51 v228 v257 k0_hw35 k0_t56)
theorem k0_off2613_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2613 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.2.2.1.2.2.1 k0_t56
theorem k0_off2613_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2613 v1 k0_t51 v228 v257 k0_t56) S1x1x1x16x128.size (k0_off2613_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.2.2.1.2.2.2.1 k0_t56 (k0_off2613_inb v1 k0_t51 v228 v257 k0_hw35 k0_t56)
theorem k0_off2614_inb : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), ∀ a, (k0_off2614 v1 k0_t51 v228 v257 k0_t56) a + S1x1x1x16x128.size a ≤ S2x2x108x128x128.size a := fun v1 k0_t51 v228 v257 k0_hw35 k0_t56 => k0_hw35.2.2.2.2.2.2.2.2.2.2.2.2.2.2.2.2.2.2.2.2.2.2.2.2.1.2.2.2.2.1 k0_t56
theorem k0_off2614_packedbf16 : ∀ (v1 : BitVec 32) (k0_t51 : Fin (k0_t51_loop v1).trips) (v228 : BitVec 32) (v257 : BitVec 32) (k0_hw35 : k0_chk35 v1 k0_t51 v228 v257) (k0_t56 : Fin (k0_t56_loop v228 v257).trips), (Rect.unit (s := S2x2x108x128x128) (k0_off2614 v1 k0_t51 v228 v257 k0_t56) S1x1x1x16x128.size (k0_off2614_inb v1 k0_t51 v228 v257 k0_hw35 k0_t56)).PackedRows (EltTy.packing .bf16) := fun v1 k0_t51 v228 v257 k0_hw35 k0_t56 => k0_hw35.2.2.2.2.2.2.2.2.2.2.2.2.2.2.2.2.2.2.2.2.2.2.2.2.1.2.2.2.2.2.1 k0_t56 (k0_off2614_inb v1 k0_t51 v228 v257 k0_hw35 k0_t56)
theorem k0_t57_ok : ∀ (v1 : BitVec 32) (k0_t51 : Fin (k0_t51_loop v1).trips) (v228 : BitVec 32) (v257 : BitVec 32) (k0_hw35 : k0_chk35 v1 k0_t51 v228 v257), (k0_t57_loop v228 v257).OK := fun v1 k0_t51 v228 v257 k0_hw35 => k0_hw35.2.2.2.2.2.2.2.2.2.2.2.2.2.2.2.2.2.2.2.2.2.2.2.2.1.2.2.2.2.2.2.1
theorem k0_mult21_dvd : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), 16 ∣ (k0_mult21 v228 v257 k0_t57).toNat := fun v1 k0_t51 v228 v257 k0_hw35 k0_t57 => k0_hw35.2.2.2.2.2.2.2.2.2.2.2.2.2.2.2.2.2.2.2.2.2.2.2.2.1.2.2.2.2.2.2.2.1 k0_t57
theorem k0_off2615_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2615 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.1.2.2.2.2.2.2.2.2.1 k0_t57
theorem k0_off2615_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2615 v1 k0_t51 v228 v257 k0_t57) S1x1x1x16x128.size (k0_off2615_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.1.2.2.2.2.2.2.2.2.2.1 k0_t57 (k0_off2615_inb v1 k0_t51 v228 v257 k0_hw35 k0_t57)
theorem k0_off2616_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2616 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.1.2.2.2.2.2.2.2.2.2.2.1 k0_t57
theorem k0_off2616_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2616 v1 k0_t51 v228 v257 k0_t57) S1x1x1x16x128.size (k0_off2616_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.1.2.2.2.2.2.2.2.2.2.2.2.1 k0_t57 (k0_off2616_inb v1 k0_t51 v228 v257 k0_hw35 k0_t57)
theorem k0_off2617_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2617 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.1.2.2.2.2.2.2.2.2.2.2.2.2.1 k0_t57
theorem k0_off2617_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2617 v1 k0_t51 v228 v257 k0_t57) S1x1x1x16x128.size (k0_off2617_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.1.2.2.2.2.2.2.2.2.2.2.2.2.2.1 k0_t57 (k0_off2617_inb v1 k0_t51 v228 v257 k0_hw35 k0_t57)
theorem k0_off2618_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2618 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.1.2.2.2.2.2.2.2.2.2.2.2.2.2.2.1 k0_t57
theorem k0_off2618_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2618 v1 k0_t51 v228 v257 k0_t57) S1x1x1x16x128.size (k0_off2618_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.1.2.2.2.2.2.2.2.2.2.2.2.2.2.2.2.1 k0_t57 (k0_off2618_inb v1 k0_t51 v228 v257 k0_hw35 k0_t57)
theorem k0_off2619_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2619 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.1.2.2.2.2.2.2.2.2.2.2.2.2.2.2.2.2.1 k0_t57
theorem k0_off2619_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2619 v1 k0_t51 v228 v257 k0_t57) S1x1x1x16x128.size (k0_off2619_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.1.2.2.2.2.2.2.2.2.2.2.2.2.2.2.2.2.2.1 k0_t57 (k0_off2619_inb v1 k0_t51 v228 v257 k0_hw35 k0_t57)
theorem k0_off2620_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2620 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.1.2.2.2.2.2.2.2.2.2.2.2.2.2.2.2.2.2.2.1 k0_t57
theorem k0_off2620_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2620 v1 k0_t51 v228 v257 k0_t57) S1x1x1x16x128.size (k0_off2620_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.1.2.2.2.2.2.2.2.2.2.2.2.2.2.2.2.2.2.2.2.1 k0_t57 (k0_off2620_inb v1 k0_t51 v228 v257 k0_hw35 k0_t57)
theorem k0_off2621_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2621 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.1.2.2.2.2.2.2.2.2.2.2.2.2.2.2.2.2.2.2.2.2.1 k0_t57
theorem k0_off2621_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2621 v1 k0_t51 v228 v257 k0_t57) S1x1x1x16x128.size (k0_off2621_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.1.2.2.2.2.2.2.2.2.2.2.2.2.2.2.2.2.2.2.2.2.2.1 k0_t57 (k0_off2621_inb v1 k0_t51 v228 v257 k0_hw35 k0_t57)
theorem k0_off2622_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2622 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.1.2.2.2.2.2.2.2.2.2.2.2.2.2.2.2.2.2.2.2.2.2.2.1 k0_t57
theorem k0_off2622_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2622 v1 k0_t51 v228 v257 k0_t57) S1x1x1x16x128.size (k0_off2622_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.1.2.2.2.2.2.2.2.2.2.2.2.2.2.2.2.2.2.2.2.2.2.2.2.1 k0_t57 (k0_off2622_inb v1 k0_t51 v228 v257 k0_hw35 k0_t57)
theorem k0_off2623_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2623 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.1.2.2.2.2.2.2.2.2.2.2.2.2.2.2.2.2.2.2.2.2.2.2.2.2.1 k0_t57
theorem k0_off2623_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2623 v1 k0_t51 v228 v257 k0_t57) S1x1x1x16x128.size (k0_off2623_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.1.2.2.2.2.2.2.2.2.2.2.2.2.2.2.2.2.2.2.2.2.2.2.2.2.2.1 k0_t57 (k0_off2623_inb v1 k0_t51 v228 v257 k0_hw35 k0_t57)
theorem k0_off2624_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2624 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.1.2.2.2.2.2.2.2.2.2.2.2.2.2.2.2.2.2.2.2.2.2.2.2.2.2.2.1 k0_t57
theorem k0_off2624_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2624 v1 k0_t51 v228 v257 k0_t57) S1x1x1x16x128.size (k0_off2624_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.1.2.2.2.2.2.2.2.2.2.2.2.2.2.2.2.2.2.2.2.2.2.2.2.2.2.2.2.1 k0_t57 (k0_off2624_inb v1 k0_t51 v228 v257 k0_hw35 k0_t57)
theorem k0_off2625_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2625 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.1.2.2.2.2.2.2.2.2.2.2.2.2.2.2.2.2.2.2.2.2.2.2.2.2.2.2.2.2.1 k0_t57
theorem k0_off2625_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2625 v1 k0_t51 v228 v257 k0_t57) S1x1x1x16x128.size (k0_off2625_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.1.2.2.2.2.2.2.2.2.2.2.2.2.2.2.2.2.2.2.2.2.2.2.2.2.2.2.2.2.2.1 k0_t57 (k0_off2625_inb v1 k0_t51 v228 v257 k0_hw35 k0_t57)
theorem k0_off2626_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2626 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.1.2.2.2.2.2.2.2.2.2.2.2.2.2.2.2.2.2.2.2.2.2.2.2.2.2.2.2.2.2.2.1 k0_t57
theorem k0_off2626_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2626 v1 k0_t51 v228 v257 k0_t57) S1x1x1x16x128.size (k0_off2626_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.1.2.2.2.2.2.2.2.2.2.2.2.2.2.2.2.2.2.2.2.2.2.2.2.2.2.2.2.2.2.2.2 k0_t57 (k0_off2626_inb v1 k0_t51 v228 v257 k0_hw35 k0_t57)
theorem k0_off2627_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2627 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.1.1 k0_t57
theorem k0_off2627_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2627 v1 k0_t51 v228 v257 k0_t57) S1x1x1x16x128.size (k0_off2627_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.1.2.1 k0_t57 (k0_off2627_inb v1 k0_t51 v228 v257 k0_hw35 k0_t57)
theorem k0_off2628_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2628 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.1.2.2.1 k0_t57
theorem k0_off2628_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2628 v1 k0_t51 v228 v257 k0_t57) S1x1x1x16x128.size (k0_off2628_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.1.2.2.2.1 k0_t57 (k0_off2628_inb v1 k0_t51 v228 v257 k0_hw35 k0_t57)
theorem k0_off2629_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2629 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.1.2.2.2.2.1 k0_t57
theorem k0_off2629_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2629 v1 k0_t51 v228 v257 k0_t57) S1x1x1x16x128.size (k0_off2629_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.1.2.2.2.2.2.1 k0_t57 (k0_off2629_inb v1 k0_t51 v228 v257 k0_hw35 k0_t57)
theorem k0_off2630_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2630 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.1.2.2.2.2.2.2.1 k0_t57
theorem k0_off2630_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2630 v1 k0_t51 v228 v257 k0_t57) S1x1x1x16x128.size (k0_off2630_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.1.2.2.2.2.2.2.2.1 k0_t57 (k0_off2630_inb v1 k0_t51 v228 v257 k0_hw35 k0_t57)
theorem k0_off2631_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2631 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.1.2.2.2.2.2.2.2.2.1 k0_t57
theorem k0_off2631_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2631 v1 k0_t51 v228 v257 k0_t57) S1x1x1x16x128.size (k0_off2631_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.1.2.2.2.2.2.2.2.2.2.1 k0_t57 (k0_off2631_inb v1 k0_t51 v228 v257 k0_hw35 k0_t57)
theorem k0_off2632_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2632 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.1.2.2.2.2.2.2.2.2.2.2.1 k0_t57
theorem k0_off2632_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2632 v1 k0_t51 v228 v257 k0_t57) S1x1x1x16x128.size (k0_off2632_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.1.2.2.2.2.2.2.2.2.2.2.2.1 k0_t57 (k0_off2632_inb v1 k0_t51 v228 v257 k0_hw35 k0_t57)
theorem k0_off2633_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2633 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.1.2.2.2.2.2.2.2.2.2.2.2.2.1 k0_t57
theorem k0_off2633_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2633 v1 k0_t51 v228 v257 k0_t57) S1x1x1x16x128.size (k0_off2633_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.1.2.2.2.2.2.2.2.2.2.2.2.2.2.1 k0_t57 (k0_off2633_inb v1 k0_t51 v228 v257 k0_hw35 k0_t57)
theorem k0_off2634_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2634 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.1.2.2.2.2.2.2.2.2.2.2.2.2.2.2.1 k0_t57
theorem k0_off2634_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2634 v1 k0_t51 v228 v257 k0_t57) S1x1x1x16x128.size (k0_off2634_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.1.2.2.2.2.2.2.2.2.2.2.2.2.2.2.2.1 k0_t57 (k0_off2634_inb v1 k0_t51 v228 v257 k0_hw35 k0_t57)
theorem k0_off2635_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2635 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.1.2.2.2.2.2.2.2.2.2.2.2.2.2.2.2.2.1 k0_t57
theorem k0_off2635_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2635 v1 k0_t51 v228 v257 k0_t57) S1x1x1x16x128.size (k0_off2635_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.1.2.2.2.2.2.2.2.2.2.2.2.2.2.2.2.2.2.1 k0_t57 (k0_off2635_inb v1 k0_t51 v228 v257 k0_hw35 k0_t57)
theorem k0_off2636_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2636 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.1.2.2.2.2.2.2.2.2.2.2.2.2.2.2.2.2.2.2.1 k0_t57
theorem k0_off2636_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2636 v1 k0_t51 v228 v257 k0_t57) S1x1x1x16x128.size (k0_off2636_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.1.2.2.2.2.2.2.2.2.2.2.2.2.2.2.2.2.2.2.2.1 k0_t57 (k0_off2636_inb v1 k0_t51 v228 v257 k0_hw35 k0_t57)
theorem k0_off2637_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2637 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.1.2.2.2.2.2.2.2.2.2.2.2.2.2.2.2.2.2.2.2.2.1 k0_t57
theorem k0_off2637_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2637 v1 k0_t51 v228 v257 k0_t57) S1x1x1x16x128.size (k0_off2637_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.1.2.2.2.2.2.2.2.2.2.2.2.2.2.2.2.2.2.2.2.2.2.1 k0_t57 (k0_off2637_inb v1 k0_t51 v228 v257 k0_hw35 k0_t57)
theorem k0_off2638_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2638 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.1.2.2.2.2.2.2.2.2.2.2.2.2.2.2.2.2.2.2.2.2.2.2.1 k0_t57
theorem k0_off2638_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2638 v1 k0_t51 v228 v257 k0_t57) S1x1x1x16x128.size (k0_off2638_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.1.2.2.2.2.2.2.2.2.2.2.2.2.2.2.2.2.2.2.2.2.2.2.2.1 k0_t57 (k0_off2638_inb v1 k0_t51 v228 v257 k0_hw35 k0_t57)
theorem k0_off2639_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2639 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.1.2.2.2.2.2.2.2.2.2.2.2.2.2.2.2.2.2.2.2.2.2.2.2.2.1 k0_t57
theorem k0_off2639_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2639 v1 k0_t51 v228 v257 k0_t57) S1x1x1x16x128.size (k0_off2639_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.1.2.2.2.2.2.2.2.2.2.2.2.2.2.2.2.2.2.2.2.2.2.2.2.2.2.1 k0_t57 (k0_off2639_inb v1 k0_t51 v228 v257 k0_hw35 k0_t57)
theorem k0_off2640_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2640 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.1.2.2.2.2.2.2.2.2.2.2.2.2.2.2.2.2.2.2.2.2.2.2.2.2.2.2.1 k0_t57
theorem k0_off2640_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2640 v1 k0_t51 v228 v257 k0_t57) S1x1x1x16x128.size (k0_off2640_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.1.2.2.2.2.2.2.2.2.2.2.2.2.2.2.2.2.2.2.2.2.2.2.2.2.2.2.2.1 k0_t57 (k0_off2640_inb v1 k0_t51 v228 v257 k0_hw35 k0_t57)
theorem k0_off2641_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2641 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.1.2.2.2.2.2.2.2.2.2.2.2.2.2.2.2.2.2.2.2.2.2.2.2.2.2.2.2.2.1 k0_t57
theorem k0_off2641_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2641 v1 k0_t51 v228 v257 k0_t57) S1x1x1x16x128.size (k0_off2641_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.1.2.2.2.2.2.2.2.2.2.2.2.2.2.2.2.2.2.2.2.2.2.2.2.2.2.2.2.2.2.1 k0_t57 (k0_off2641_inb v1 k0_t51 v228 v257 k0_hw35 k0_t57)
theorem k0_off2642_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2642 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.1.2.2.2.2.2.2.2.2.2.2.2.2.2.2.2.2.2.2.2.2.2.2.2.2.2.2.2.2.2.2.1 k0_t57
theorem k0_off2642_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2642 v1 k0_t51 v228 v257 k0_t57) S1x1x1x16x128.size (k0_off2642_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.1.2.2.2.2.2.2.2.2.2.2.2.2.2.2.2.2.2.2.2.2.2.2.2.2.2.2.2.2.2.2.2 k0_t57 (k0_off2642_inb v1 k0_t51 v228 v257 k0_hw35 k0_t57)
theorem k0_off2643_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2643 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.1.1 k0_t57
theorem k0_off2643_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2643 v1 k0_t51 v228 v257 k0_t57) S1x1x1x16x128.size (k0_off2643_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.1.2.1 k0_t57 (k0_off2643_inb v1 k0_t51 v228 v257 k0_hw35 k0_t57)
theorem k0_off2644_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2644 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.1.2.2.1 k0_t57
theorem k0_off2644_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2644 v1 k0_t51 v228 v257 k0_t57) S1x1x1x16x128.size (k0_off2644_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.1.2.2.2.1 k0_t57 (k0_off2644_inb v1 k0_t51 v228 v257 k0_hw35 k0_t57)
theorem k0_off2645_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2645 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.1.2.2.2.2.1 k0_t57
theorem k0_off2645_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2645 v1 k0_t51 v228 v257 k0_t57) S1x1x1x16x128.size (k0_off2645_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.1.2.2.2.2.2.1 k0_t57 (k0_off2645_inb v1 k0_t51 v228 v257 k0_hw35 k0_t57)
theorem k0_off2646_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2646 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.1.2.2.2.2.2.2.1 k0_t57
theorem k0_off2646_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2646 v1 k0_t51 v228 v257 k0_t57) S1x1x1x16x128.size (k0_off2646_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.1.2.2.2.2.2.2.2.1 k0_t57 (k0_off2646_inb v1 k0_t51 v228 v257 k0_hw35 k0_t57)
theorem k0_off2647_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2647 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.1.2.2.2.2.2.2.2.2.1 k0_t57
theorem k0_off2647_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2647 v1 k0_t51 v228 v257 k0_t57) S1x1x1x16x128.size (k0_off2647_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.1.2.2.2.2.2.2.2.2.2.1 k0_t57 (k0_off2647_inb v1 k0_t51 v228 v257 k0_hw35 k0_t57)
theorem k0_off2648_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2648 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.1.2.2.2.2.2.2.2.2.2.2.1 k0_t57
theorem k0_off2648_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2648 v1 k0_t51 v228 v257 k0_t57) S1x1x1x16x128.size (k0_off2648_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.1.2.2.2.2.2.2.2.2.2.2.2.1 k0_t57 (k0_off2648_inb v1 k0_t51 v228 v257 k0_hw35 k0_t57)
theorem k0_off2649_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2649 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.1.2.2.2.2.2.2.2.2.2.2.2.2.1 k0_t57
theorem k0_off2649_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2649 v1 k0_t51 v228 v257 k0_t57) S1x1x1x16x128.size (k0_off2649_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.1.2.2.2.2.2.2.2.2.2.2.2.2.2.1 k0_t57 (k0_off2649_inb v1 k0_t51 v228 v257 k0_hw35 k0_t57)
theorem k0_off2650_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2650 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.1.2.2.2.2.2.2.2.2.2.2.2.2.2.2.1 k0_t57
theorem k0_off2650_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2650 v1 k0_t51 v228 v257 k0_t57) S1x1x1x16x128.size (k0_off2650_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.1.2.2.2.2.2.2.2.2.2.2.2.2.2.2.2.1 k0_t57 (k0_off2650_inb v1 k0_t51 v228 v257 k0_hw35 k0_t57)
theorem k0_off2651_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2651 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.1.2.2.2.2.2.2.2.2.2.2.2.2.2.2.2.2.1 k0_t57
theorem k0_off2651_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2651 v1 k0_t51 v228 v257 k0_t57) S1x1x1x16x128.size (k0_off2651_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.1.2.2.2.2.2.2.2.2.2.2.2.2.2.2.2.2.2.1 k0_t57 (k0_off2651_inb v1 k0_t51 v228 v257 k0_hw35 k0_t57)
theorem k0_off2652_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2652 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.1.2.2.2.2.2.2.2.2.2.2.2.2.2.2.2.2.2.2.1 k0_t57
theorem k0_off2652_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2652 v1 k0_t51 v228 v257 k0_t57) S1x1x1x16x128.size (k0_off2652_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.1.2.2.2.2.2.2.2.2.2.2.2.2.2.2.2.2.2.2.2.1 k0_t57 (k0_off2652_inb v1 k0_t51 v228 v257 k0_hw35 k0_t57)
theorem k0_off2653_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2653 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.1.2.2.2.2.2.2.2.2.2.2.2.2.2.2.2.2.2.2.2.2.1 k0_t57
theorem k0_off2653_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2653 v1 k0_t51 v228 v257 k0_t57) S1x1x1x16x128.size (k0_off2653_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.1.2.2.2.2.2.2.2.2.2.2.2.2.2.2.2.2.2.2.2.2.2.1 k0_t57 (k0_off2653_inb v1 k0_t51 v228 v257 k0_hw35 k0_t57)
theorem k0_off2654_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2654 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.1.2.2.2.2.2.2.2.2.2.2.2.2.2.2.2.2.2.2.2.2.2.2.1 k0_t57
theorem k0_off2654_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2654 v1 k0_t51 v228 v257 k0_t57) S1x1x1x16x128.size (k0_off2654_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.1.2.2.2.2.2.2.2.2.2.2.2.2.2.2.2.2.2.2.2.2.2.2.2.1 k0_t57 (k0_off2654_inb v1 k0_t51 v228 v257 k0_hw35 k0_t57)
theorem k0_off2655_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2655 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.1.2.2.2.2.2.2.2.2.2.2.2.2.2.2.2.2.2.2.2.2.2.2.2.2.1 k0_t57
theorem k0_off2655_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2655 v1 k0_t51 v228 v257 k0_t57) S1x1x1x16x128.size (k0_off2655_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.1.2.2.2.2.2.2.2.2.2.2.2.2.2.2.2.2.2.2.2.2.2.2.2.2.2.1 k0_t57 (k0_off2655_inb v1 k0_t51 v228 v257 k0_hw35 k0_t57)
theorem k0_off2656_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2656 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.1.2.2.2.2.2.2.2.2.2.2.2.2.2.2.2.2.2.2.2.2.2.2.2.2.2.2.1 k0_t57
theorem k0_off2656_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2656 v1 k0_t51 v228 v257 k0_t57) S1x1x1x16x128.size (k0_off2656_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.1.2.2.2.2.2.2.2.2.2.2.2.2.2.2.2.2.2.2.2.2.2.2.2.2.2.2.2.1 k0_t57 (k0_off2656_inb v1 k0_t51 v228 v257 k0_hw35 k0_t57)
theorem k0_off2657_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2657 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.1.2.2.2.2.2.2.2.2.2.2.2.2.2.2.2.2.2.2.2.2.2.2.2.2.2.2.2.2.1 k0_t57
theorem k0_off2657_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2657 v1 k0_t51 v228 v257 k0_t57) S1x1x1x16x128.size (k0_off2657_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.1.2.2.2.2.2.2.2.2.2.2.2.2.2.2.2.2.2.2.2.2.2.2.2.2.2.2.2.2.2.1 k0_t57 (k0_off2657_inb v1 k0_t51 v228 v257 k0_hw35 k0_t57)
theorem k0_off2658_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2658 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.1.2.2.2.2.2.2.2.2.2.2.2.2.2.2.2.2.2.2.2.2.2.2.2.2.2.2.2.2.2.2.1 k0_t57
theorem k0_off2658_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2658 v1 k0_t51 v228 v257 k0_t57) S1x1x1x16x128.size (k0_off2658_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.1.2.2.2.2.2.2.2.2.2.2.2.2.2.2.2.2.2.2.2.2.2.2.2.2.2.2.2.2.2.2.2 k0_t57 (k0_off2658_inb v1 k0_t51 v228 v257 k0_hw35 k0_t57)
theorem k0_off2659_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2659 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.1.1 k0_t57
theorem k0_off2659_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2659 v1 k0_t51 v228 v257 k0_t57) S1x1x1x16x128.size (k0_off2659_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.1.2.1 k0_t57 (k0_off2659_inb v1 k0_t51 v228 v257 k0_hw35 k0_t57)
theorem k0_off2660_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2660 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.1.2.2.1 k0_t57
theorem k0_off2660_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2660 v1 k0_t51 v228 v257 k0_t57) S1x1x1x16x128.size (k0_off2660_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.1.2.2.2.1 k0_t57 (k0_off2660_inb v1 k0_t51 v228 v257 k0_hw35 k0_t57)
theorem k0_off2661_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2661 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.1.2.2.2.2.1 k0_t57
theorem k0_off2661_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2661 v1 k0_t51 v228 v257 k0_t57) S1x1x1x16x128.size (k0_off2661_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.1.2.2.2.2.2.1 k0_t57 (k0_off2661_inb v1 k0_t51 v228 v257 k0_hw35 k0_t57)
theorem k0_off2662_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2662 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.1.2.2.2.2.2.2.1 k0_t57
theorem k0_off2662_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2662 v1 k0_t51 v228 v257 k0_t57) S1x1x1x16x128.size (k0_off2662_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.1.2.2.2.2.2.2.2.1 k0_t57 (k0_off2662_inb v1 k0_t51 v228 v257 k0_hw35 k0_t57)
theorem k0_off2663_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2663 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.1.2.2.2.2.2.2.2.2.1 k0_t57
theorem k0_off2663_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2663 v1 k0_t51 v228 v257 k0_t57) S1x1x1x16x128.size (k0_off2663_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.1.2.2.2.2.2.2.2.2.2.1 k0_t57 (k0_off2663_inb v1 k0_t51 v228 v257 k0_hw35 k0_t57)
theorem k0_off2664_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2664 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.1.2.2.2.2.2.2.2.2.2.2.1 k0_t57
theorem k0_off2664_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2664 v1 k0_t51 v228 v257 k0_t57) S1x1x1x16x128.size (k0_off2664_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.1.2.2.2.2.2.2.2.2.2.2.2.1 k0_t57 (k0_off2664_inb v1 k0_t51 v228 v257 k0_hw35 k0_t57)
theorem k0_off2665_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2665 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.1.2.2.2.2.2.2.2.2.2.2.2.2.1 k0_t57
theorem k0_off2665_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2665 v1 k0_t51 v228 v257 k0_t57) S1x1x1x16x128.size (k0_off2665_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.1.2.2.2.2.2.2.2.2.2.2.2.2.2.1 k0_t57 (k0_off2665_inb v1 k0_t51 v228 v257 k0_hw35 k0_t57)
theorem k0_off2666_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2666 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.1.2.2.2.2.2.2.2.2.2.2.2.2.2.2.1 k0_t57
theorem k0_off2666_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2666 v1 k0_t51 v228 v257 k0_t57) S1x1x1x16x128.size (k0_off2666_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.1.2.2.2.2.2.2.2.2.2.2.2.2.2.2.2.1 k0_t57 (k0_off2666_inb v1 k0_t51 v228 v257 k0_hw35 k0_t57)
theorem k0_off2667_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2667 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.1.2.2.2.2.2.2.2.2.2.2.2.2.2.2.2.2.1 k0_t57
theorem k0_off2667_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2667 v1 k0_t51 v228 v257 k0_t57) S1x1x1x16x128.size (k0_off2667_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.1.2.2.2.2.2.2.2.2.2.2.2.2.2.2.2.2.2.1 k0_t57 (k0_off2667_inb v1 k0_t51 v228 v257 k0_hw35 k0_t57)
theorem k0_off2668_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2668 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.1.2.2.2.2.2.2.2.2.2.2.2.2.2.2.2.2.2.2.1 k0_t57
theorem k0_off2668_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2668 v1 k0_t51 v228 v257 k0_t57) S1x1x1x16x128.size (k0_off2668_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.1.2.2.2.2.2.2.2.2.2.2.2.2.2.2.2.2.2.2.2.1 k0_t57 (k0_off2668_inb v1 k0_t51 v228 v257 k0_hw35 k0_t57)
theorem k0_off2669_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2669 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.1.2.2.2.2.2.2.2.2.2.2.2.2.2.2.2.2.2.2.2.2.1 k0_t57
theorem k0_off2669_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2669 v1 k0_t51 v228 v257 k0_t57) S1x1x1x16x128.size (k0_off2669_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.1.2.2.2.2.2.2.2.2.2.2.2.2.2.2.2.2.2.2.2.2.2.1 k0_t57 (k0_off2669_inb v1 k0_t51 v228 v257 k0_hw35 k0_t57)
theorem k0_off2670_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2670 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.1.2.2.2.2.2.2.2.2.2.2.2.2.2.2.2.2.2.2.2.2.2.2.1 k0_t57
theorem k0_off2670_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2670 v1 k0_t51 v228 v257 k0_t57) S1x1x1x16x128.size (k0_off2670_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.1.2.2.2.2.2.2.2.2.2.2.2.2.2.2.2.2.2.2.2.2.2.2.2.1 k0_t57 (k0_off2670_inb v1 k0_t51 v228 v257 k0_hw35 k0_t57)
theorem k0_off2671_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2671 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.1.2.2.2.2.2.2.2.2.2.2.2.2.2.2.2.2.2.2.2.2.2.2.2.2.1 k0_t57
theorem k0_off2671_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2671 v1 k0_t51 v228 v257 k0_t57) S1x1x1x16x128.size (k0_off2671_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.1.2.2.2.2.2.2.2.2.2.2.2.2.2.2.2.2.2.2.2.2.2.2.2.2.2.1 k0_t57 (k0_off2671_inb v1 k0_t51 v228 v257 k0_hw35 k0_t57)
theorem k0_off2672_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2672 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.1.2.2.2.2.2.2.2.2.2.2.2.2.2.2.2.2.2.2.2.2.2.2.2.2.2.2.1 k0_t57
theorem k0_off2672_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2672 v1 k0_t51 v228 v257 k0_t57) S1x1x1x16x128.size (k0_off2672_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.1.2.2.2.2.2.2.2.2.2.2.2.2.2.2.2.2.2.2.2.2.2.2.2.2.2.2.2.1 k0_t57 (k0_off2672_inb v1 k0_t51 v228 v257 k0_hw35 k0_t57)
theorem k0_off2673_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2673 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.1.2.2.2.2.2.2.2.2.2.2.2.2.2.2.2.2.2.2.2.2.2.2.2.2.2.2.2.2.1 k0_t57
theorem k0_off2673_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2673 v1 k0_t51 v228 v257 k0_t57) S1x1x1x16x128.size (k0_off2673_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.1.2.2.2.2.2.2.2.2.2.2.2.2.2.2.2.2.2.2.2.2.2.2.2.2.2.2.2.2.2.1 k0_t57 (k0_off2673_inb v1 k0_t51 v228 v257 k0_hw35 k0_t57)
theorem k0_off2674_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2674 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.1.2.2.2.2.2.2.2.2.2.2.2.2.2.2.2.2.2.2.2.2.2.2.2.2.2.2.2.2.2.2.1 k0_t57
theorem k0_off2674_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2674 v1 k0_t51 v228 v257 k0_t57) S1x1x1x16x128.size (k0_off2674_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.1.2.2.2.2.2.2.2.2.2.2.2.2.2.2.2.2.2.2.2.2.2.2.2.2.2.2.2.2.2.2.2 k0_t57 (k0_off2674_inb v1 k0_t51 v228 v257 k0_hw35 k0_t57)
theorem k0_off2675_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2675 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.1.1 k0_t57
theorem k0_off2675_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2675 v1 k0_t51 v228 v257 k0_t57) S1x1x1x16x128.size (k0_off2675_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.1.2.1 k0_t57 (k0_off2675_inb v1 k0_t51 v228 v257 k0_hw35 k0_t57)
theorem k0_off2676_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2676 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.1.2.2.1 k0_t57
theorem k0_off2676_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2676 v1 k0_t51 v228 v257 k0_t57) S1x1x1x16x128.size (k0_off2676_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.1.2.2.2.1 k0_t57 (k0_off2676_inb v1 k0_t51 v228 v257 k0_hw35 k0_t57)
theorem k0_off2677_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2677 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.1.2.2.2.2.1 k0_t57
theorem k0_off2677_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2677 v1 k0_t51 v228 v257 k0_t57) S1x1x1x16x128.size (k0_off2677_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.1.2.2.2.2.2.1 k0_t57 (k0_off2677_inb v1 k0_t51 v228 v257 k0_hw35 k0_t57)
theorem k0_off2678_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2678 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.1.2.2.2.2.2.2.1 k0_t57
theorem k0_off2678_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2678 v1 k0_t51 v228 v257 k0_t57) S1x1x1x16x128.size (k0_off2678_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.1.2.2.2.2.2.2.2.1 k0_t57 (k0_off2678_inb v1 k0_t51 v228 v257 k0_hw35 k0_t57)
theorem k0_off2679_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2679 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.1.2.2.2.2.2.2.2.2.1 k0_t57
theorem k0_off2679_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2679 v1 k0_t51 v228 v257 k0_t57) S1x1x1x16x128.size (k0_off2679_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.1.2.2.2.2.2.2.2.2.2.1 k0_t57 (k0_off2679_inb v1 k0_t51 v228 v257 k0_hw35 k0_t57)
theorem k0_off2680_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2680 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.1.2.2.2.2.2.2.2.2.2.2.1 k0_t57
theorem k0_off2680_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2680 v1 k0_t51 v228 v257 k0_t57) S1x1x1x16x128.size (k0_off2680_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.1.2.2.2.2.2.2.2.2.2.2.2.1 k0_t57 (k0_off2680_inb v1 k0_t51 v228 v257 k0_hw35 k0_t57)
theorem k0_off2681_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2681 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.1.2.2.2.2.2.2.2.2.2.2.2.2.1 k0_t57
theorem k0_off2681_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2681 v1 k0_t51 v228 v257 k0_t57) S1x1x1x16x128.size (k0_off2681_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.1.2.2.2.2.2.2.2.2.2.2.2.2.2.1 k0_t57 (k0_off2681_inb v1 k0_t51 v228 v257 k0_hw35 k0_t57)
theorem k0_off2682_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2682 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.1.2.2.2.2.2.2.2.2.2.2.2.2.2.2.1 k0_t57
theorem k0_off2682_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2682 v1 k0_t51 v228 v257 k0_t57) S1x1x1x16x128.size (k0_off2682_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.1.2.2.2.2.2.2.2.2.2.2.2.2.2.2.2.1 k0_t57 (k0_off2682_inb v1 k0_t51 v228 v257 k0_hw35 k0_t57)
theorem k0_off2683_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2683 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.1.2.2.2.2.2.2.2.2.2.2.2.2.2.2.2.2.1 k0_t57
theorem k0_off2683_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2683 v1 k0_t51 v228 v257 k0_t57) S1x1x1x16x128.size (k0_off2683_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.1.2.2.2.2.2.2.2.2.2.2.2.2.2.2.2.2.2.1 k0_t57 (k0_off2683_inb v1 k0_t51 v228 v257 k0_hw35 k0_t57)
theorem k0_off2684_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2684 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.1.2.2.2.2.2.2.2.2.2.2.2.2.2.2.2.2.2.2.1 k0_t57
theorem k0_off2684_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2684 v1 k0_t51 v228 v257 k0_t57) S1x1x1x16x128.size (k0_off2684_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.1.2.2.2.2.2.2.2.2.2.2.2.2.2.2.2.2.2.2.2.1 k0_t57 (k0_off2684_inb v1 k0_t51 v228 v257 k0_hw35 k0_t57)
theorem k0_off2685_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2685 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.1.2.2.2.2.2.2.2.2.2.2.2.2.2.2.2.2.2.2.2.2.1 k0_t57
theorem k0_off2685_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2685 v1 k0_t51 v228 v257 k0_t57) S1x1x1x16x128.size (k0_off2685_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.1.2.2.2.2.2.2.2.2.2.2.2.2.2.2.2.2.2.2.2.2.2.1 k0_t57 (k0_off2685_inb v1 k0_t51 v228 v257 k0_hw35 k0_t57)
theorem k0_off2686_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2686 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.1.2.2.2.2.2.2.2.2.2.2.2.2.2.2.2.2.2.2.2.2.2.2.1 k0_t57
theorem k0_off2686_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2686 v1 k0_t51 v228 v257 k0_t57) S1x1x1x16x128.size (k0_off2686_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.1.2.2.2.2.2.2.2.2.2.2.2.2.2.2.2.2.2.2.2.2.2.2.2.1 k0_t57 (k0_off2686_inb v1 k0_t51 v228 v257 k0_hw35 k0_t57)
theorem k0_off2687_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2687 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.1.2.2.2.2.2.2.2.2.2.2.2.2.2.2.2.2.2.2.2.2.2.2.2.2.1 k0_t57
theorem k0_off2687_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2687 v1 k0_t51 v228 v257 k0_t57) S1x1x1x16x128.size (k0_off2687_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.1.2.2.2.2.2.2.2.2.2.2.2.2.2.2.2.2.2.2.2.2.2.2.2.2.2.1 k0_t57 (k0_off2687_inb v1 k0_t51 v228 v257 k0_hw35 k0_t57)
theorem k0_off2688_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2688 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.1.2.2.2.2.2.2.2.2.2.2.2.2.2.2.2.2.2.2.2.2.2.2.2.2.2.2.1 k0_t57
theorem k0_off2688_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2688 v1 k0_t51 v228 v257 k0_t57) S1x1x1x16x128.size (k0_off2688_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.1.2.2.2.2.2.2.2.2.2.2.2.2.2.2.2.2.2.2.2.2.2.2.2.2.2.2.2.1 k0_t57 (k0_off2688_inb v1 k0_t51 v228 v257 k0_hw35 k0_t57)
theorem k0_off2689_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2689 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.1.2.2.2.2.2.2.2.2.2.2.2.2.2.2.2.2.2.2.2.2.2.2.2.2.2.2.2.2.1 k0_t57
theorem k0_off2689_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2689 v1 k0_t51 v228 v257 k0_t57) S1x1x1x16x128.size (k0_off2689_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.1.2.2.2.2.2.2.2.2.2.2.2.2.2.2.2.2.2.2.2.2.2.2.2.2.2.2.2.2.2.1 k0_t57 (k0_off2689_inb v1 k0_t51 v228 v257 k0_hw35 k0_t57)
theorem k0_off2690_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2690 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t57
theorem k0_off2690_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2690 v1 k0_t51 v228 v257 k0_t57) S1x1x1x16x128.size (k0_off2690_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t57 (k0_off2690_inb v1 k0_t51 v228 v257 k0_hw35 k0_t57)
theorem k0_off2691_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2691 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.1.1 k0_t57
theorem k0_off2691_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2691 v1 k0_t51 v228 v257 k0_t57) S1x1x1x16x128.size (k0_off2691_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.1.2.1 k0_t57 (k0_off2691_inb v1 k0_t51 v228 v257 k0_hw35 k0_t57)
theorem k0_off2692_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2692 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.1.2.2.1 k0_t57
theorem k0_off2692_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2692 v1 k0_t51 v228 v257 k0_t57) S1x1x1x16x128.size (k0_off2692_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.1.2.2.2.1 k0_t57 (k0_off2692_inb v1 k0_t51 v228 v257 k0_hw35 k0_t57)
theorem k0_off2693_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2693 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.1.2.2.2.2.1 k0_t57
theorem k0_off2693_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2693 v1 k0_t51 v228 v257 k0_t57) S1x1x1x16x128.size (k0_off2693_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.1.2.2.2.2.2.1 k0_t57 (k0_off2693_inb v1 k0_t51 v228 v257 k0_hw35 k0_t57)
theorem k0_off2694_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2694 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.1.2.2.2.2.2.2.1 k0_t57
theorem k0_off2694_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2694 v1 k0_t51 v228 v257 k0_t57) S1x1x1x16x128.size (k0_off2694_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.1.2.2.2.2.2.2.2.1 k0_t57 (k0_off2694_inb v1 k0_t51 v228 v257 k0_hw35 k0_t57)
theorem k0_off2695_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2695 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.1.2.2.2.2.2.2.2.2.1 k0_t57
theorem k0_off2695_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2695 v1 k0_t51 v228 v257 k0_t57) S1x1x1x16x128.size (k0_off2695_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.1.2.2.2.2.2.2.2.2.2.1 k0_t57 (k0_off2695_inb v1 k0_t51 v228 v257 k0_hw35 k0_t57)
theorem k0_off2696_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2696 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.1.2.2.2.2.2.2.2.2.2.2.1 k0_t57
theorem k0_off2696_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2696 v1 k0_t51 v228 v257 k0_t57) S1x1x1x16x128.size (k0_off2696_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.1.2.2.2.2.2.2.2.2.2.2.2.1 k0_t57 (k0_off2696_inb v1 k0_t51 v228 v257 k0_hw35 k0_t57)
theorem k0_off2697_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2697 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.1.2.2.2.2.2.2.2.2.2.2.2.2.1 k0_t57
theorem k0_off2697_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2697 v1 k0_t51 v228 v257 k0_t57) S1x1x1x16x128.size (k0_off2697_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.1.2.2.2.2.2.2.2.2.2.2.2.2.2.1 k0_t57 (k0_off2697_inb v1 k0_t51 v228 v257 k0_hw35 k0_t57)
theorem k0_off2698_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2698 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.1.2.2.2.2.2.2.2.2.2.2.2.2.2.2.1 k0_t57
theorem k0_off2698_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2698 v1 k0_t51 v228 v257 k0_t57) S1x1x1x16x128.size (k0_off2698_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.1.2.2.2.2.2.2.2.2.2.2.2.2.2.2.2.1 k0_t57 (k0_off2698_inb v1 k0_t51 v228 v257 k0_hw35 k0_t57)
theorem k0_off2699_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2699 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.1.2.2.2.2.2.2.2.2.2.2.2.2.2.2.2.2.1 k0_t57
theorem k0_off2699_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2699 v1 k0_t51 v228 v257 k0_t57) S1x1x1x16x128.size (k0_off2699_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.1.2.2.2.2.2.2.2.2.2.2.2.2.2.2.2.2.2.1 k0_t57 (k0_off2699_inb v1 k0_t51 v228 v257 k0_hw35 k0_t57)
theorem k0_off2700_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2700 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.1.2.2.2.2.2.2.2.2.2.2.2.2.2.2.2.2.2.2.1 k0_t57
theorem k0_off2700_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2700 v1 k0_t51 v228 v257 k0_t57) S1x1x1x16x128.size (k0_off2700_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.1.2.2.2.2.2.2.2.2.2.2.2.2.2.2.2.2.2.2.2.1 k0_t57 (k0_off2700_inb v1 k0_t51 v228 v257 k0_hw35 k0_t57)
theorem k0_off2701_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2701 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.1.2.2.2.2.2.2.2.2.2.2.2.2.2.2.2.2.2.2.2.2.1 k0_t57
theorem k0_off2701_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2701 v1 k0_t51 v228 v257 k0_t57) S1x1x1x16x128.size (k0_off2701_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.1.2.2.2.2.2.2.2.2.2.2.2.2.2.2.2.2.2.2.2.2.2.1 k0_t57 (k0_off2701_inb v1 k0_t51 v228 v257 k0_hw35 k0_t57)
theorem k0_off2702_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2702 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.1.2.2.2.2.2.2.2.2.2.2.2.2.2.2.2.2.2.2.2.2.2.2.1 k0_t57
theorem k0_off2702_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2702 v1 k0_t51 v228 v257 k0_t57) S1x1x1x16x128.size (k0_off2702_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.1.2.2.2.2.2.2.2.2.2.2.2.2.2.2.2.2.2.2.2.2.2.2.2.1 k0_t57 (k0_off2702_inb v1 k0_t51 v228 v257 k0_hw35 k0_t57)
theorem k0_off2703_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2703 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.1.2.2.2.2.2.2.2.2.2.2.2.2.2.2.2.2.2.2.2.2.2.2.2.2.1 k0_t57
theorem k0_off2703_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2703 v1 k0_t51 v228 v257 k0_t57) S1x1x1x16x128.size (k0_off2703_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.1.2.2.2.2.2.2.2.2.2.2.2.2.2.2.2.2.2.2.2.2.2.2.2.2.2.1 k0_t57 (k0_off2703_inb v1 k0_t51 v228 v257 k0_hw35 k0_t57)
theorem k0_off2704_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2704 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.1.2.2.2.2.2.2.2.2.2.2.2.2.2.2.2.2.2.2.2.2.2.2.2.2.2.2.1 k0_t57
theorem k0_off2704_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2704 v1 k0_t51 v228 v257 k0_t57) S1x1x1x16x128.size (k0_off2704_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.1.2.2.2.2.2.2.2.2.2.2.2.2.2.2.2.2.2.2.2.2.2.2.2.2.2.2.2.1 k0_t57 (k0_off2704_inb v1 k0_t51 v228 v257 k0_hw35 k0_t57)
theorem k0_off2705_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2705 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.1.2.2.2.2.2.2.2.2.2.2.2.2.2.2.2.2.2.2.2.2.2.2.2.2.2.2.2.2.1 k0_t57
theorem k0_off2705_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2705 v1 k0_t51 v228 v257 k0_t57) S1x1x1x16x128.size (k0_off2705_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t57 (k0_off2705_inb v1 k0_t51 v228 v257 k0_hw35 k0_t57)
theorem k0_off2706_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2706 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t57
theorem k0_off2706_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2706 v1 k0_t51 v228 v257 k0_t57) S1x1x1x16x128.size (k0_off2706_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t57 (k0_off2706_inb v1 k0_t51 v228 v257 k0_hw35 k0_t57)
theorem k0_off2707_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2707 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.2.1.1 k0_t57
theorem k0_off2707_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2707 v1 k0_t51 v228 v257 k0_t57) S1x1x1x16x128.size (k0_off2707_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.2.1.2.1 k0_t57 (k0_off2707_inb v1 k0_t51 v228 v257 k0_hw35 k0_t57)
theorem k0_off2708_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2708 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.2.1.2.2.1 k0_t57
theorem k0_off2708_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2708 v1 k0_t51 v228 v257 k0_t57) S1x1x1x16x128.size (k0_off2708_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.2.1.2.2.2.1 k0_t57 (k0_off2708_inb v1 k0_t51 v228 v257 k0_hw35 k0_t57)
theorem k0_off2709_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2709 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.2.1.2.2.2.2.1 k0_t57
theorem k0_off2709_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2709 v1 k0_t51 v228 v257 k0_t57) S1x1x1x16x128.size (k0_off2709_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.2.1.2.2.2.2.2.1 k0_t57 (k0_off2709_inb v1 k0_t51 v228 v257 k0_hw35 k0_t57)
theorem k0_off2710_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2710 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.2.1.2.2.2.2.2.2.1 k0_t57
theorem k0_off2710_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2710 v1 k0_t51 v228 v257 k0_t57) S1x1x1x16x128.size (k0_off2710_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.2.1.2.2.2.2.2.2.2.1 k0_t57 (k0_off2710_inb v1 k0_t51 v228 v257 k0_hw35 k0_t57)
theorem k0_off2711_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2711 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.2.1.2.2.2.2.2.2.2.2.1 k0_t57
theorem k0_off2711_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2711 v1 k0_t51 v228 v257 k0_t57) S1x1x1x16x128.size (k0_off2711_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.2.1.2.2.2.2.2.2.2.2.2.1 k0_t57 (k0_off2711_inb v1 k0_t51 v228 v257 k0_hw35 k0_t57)
theorem k0_off2712_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2712 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.2.1.2.2.2.2.2.2.2.2.2.2.1 k0_t57
theorem k0_off2712_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2712 v1 k0_t51 v228 v257 k0_t57) S1x1x1x16x128.size (k0_off2712_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.2.1.2.2.2.2.2.2.2.2.2.2.2.1 k0_t57 (k0_off2712_inb v1 k0_t51 v228 v257 k0_hw35 k0_t57)
theorem k0_off2713_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2713 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.2.1.2.2.2.2.2.2.2.2.2.2.2.2.1 k0_t57
theorem k0_off2713_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2713 v1 k0_t51 v228 v257 k0_t57) S1x1x1x16x128.size (k0_off2713_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.2.1.2.2.2.2.2.2.2.2.2.2.2.2.2.1 k0_t57 (k0_off2713_inb v1 k0_t51 v228 v257 k0_hw35 k0_t57)
theorem k0_off2714_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2714 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.2.1.2.2.2.2.2.2.2.2.2.2.2.2.2.2.1 k0_t57
theorem k0_off2714_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2714 v1 k0_t51 v228 v257 k0_t57) S1x1x1x16x128.size (k0_off2714_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.2.1.2.2.2.2.2.2.2.2.2.2.2.2.2.2.2.1 k0_t57 (k0_off2714_inb v1 k0_t51 v228 v257 k0_hw35 k0_t57)
theorem k0_off2715_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2715 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.2.1.2.2.2.2.2.2.2.2.2.2.2.2.2.2.2.2.1 k0_t57
theorem k0_off2715_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2715 v1 k0_t51 v228 v257 k0_t57) S1x1x1x16x128.size (k0_off2715_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.2.1.2.2.2.2.2.2.2.2.2.2.2.2.2.2.2.2.2.1 k0_t57 (k0_off2715_inb v1 k0_t51 v228 v257 k0_hw35 k0_t57)
theorem k0_off2716_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2716 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.2.1.2.2.2.2.2.2.2.2.2.2.2.2.2.2.2.2.2.2.1 k0_t57
theorem k0_off2716_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2716 v1 k0_t51 v228 v257 k0_t57) S1x1x1x16x128.size (k0_off2716_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.2.1.2.2.2.2.2.2.2.2.2.2.2.2.2.2.2.2.2.2.2.1 k0_t57 (k0_off2716_inb v1 k0_t51 v228 v257 k0_hw35 k0_t57)
theorem k0_off2717_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2717 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.2.1.2.2.2.2.2.2.2.2.2.2.2.2.2.2.2.2.2.2.2.2.1 k0_t57
theorem k0_off2717_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2717 v1 k0_t51 v228 v257 k0_t57) S1x1x1x16x128.size (k0_off2717_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.2.1.2.2.2.2.2.2.2.2.2.2.2.2.2.2.2.2.2.2.2.2.2.1 k0_t57 (k0_off2717_inb v1 k0_t51 v228 v257 k0_hw35 k0_t57)
theorem k0_off2718_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2718 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.2.1.2.2.2.2.2.2.2.2.2.2.2.2.2.2.2.2.2.2.2.2.2.2.1 k0_t57
theorem k0_off2718_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2718 v1 k0_t51 v228 v257 k0_t57) S1x1x1x16x128.size (k0_off2718_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.2.1.2.2.2.2.2.2.2.2.2.2.2.2.2.2.2.2.2.2.2.2.2.2.2.1 k0_t57 (k0_off2718_inb v1 k0_t51 v228 v257 k0_hw35 k0_t57)
theorem k0_off2719_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2719 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.2.1.2.2.2.2.2.2.2.2.2.2.2.2.2.2.2.2.2.2.2.2.2.2.2.2.1 k0_t57
theorem k0_off2719_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2719 v1 k0_t51 v228 v257 k0_t57) S1x1x1x16x128.size (k0_off2719_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.2.1.2.2.2.2.2.2.2.2.2.2.2.2.2.2.2.2.2.2.2.2.2.2.2.2.2.1 k0_t57 (k0_off2719_inb v1 k0_t51 v228 v257 k0_hw35 k0_t57)
theorem k0_off2720_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2720 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.2.1.2.2.2.2.2.2.2.2.2.2.2.2.2.2.2.2.2.2.2.2.2.2.2.2.2.2.1 k0_t57
theorem k0_off2720_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2720 v1 k0_t51 v228 v257 k0_t57) S1x1x1x16x128.size (k0_off2720_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.2.1.2.2.2.2.2.2.2.2.2.2.2.2.2.2.2.2.2.2.2.2.2.2.2.2.2.2.2.1 k0_t57 (k0_off2720_inb v1 k0_t51 v228 v257 k0_hw35 k0_t57)
theorem k0_off2721_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2721 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t57
theorem k0_off2721_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2721 v1 k0_t51 v228 v257 k0_t57) S1x1x1x16x128.size (k0_off2721_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t57 (k0_off2721_inb v1 k0_t51 v228 v257 k0_hw35 k0_t57)
theorem k0_off2722_inb : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), ∀ a, (k0_off2722 v1 k0_t51 v228 v257 k0_t57) a + S1x1x1x16x128.size a ≤ S2x2x108x128x128.size a := fun v1 k0_t51 v228 v257 k0_hw35 k0_t57 => k0_hw35.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t57
theorem k0_off2722_packedbf16 : ∀ (v1 : BitVec 32) (k0_t51 : Fin (k0_t51_loop v1).trips) (v228 : BitVec 32) (v257 : BitVec 32) (k0_hw35 : k0_chk35 v1 k0_t51 v228 v257) (k0_t57 : Fin (k0_t57_loop v228 v257).trips), (Rect.unit (s := S2x2x108x128x128) (k0_off2722 v1 k0_t51 v228 v257 k0_t57) S1x1x1x16x128.size (k0_off2722_inb v1 k0_t51 v228 v257 k0_hw35 k0_t57)).PackedRows (EltTy.packing .bf16) := fun v1 k0_t51 v228 v257 k0_hw35 k0_t57 => k0_hw35.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t57 (k0_off2722_inb v1 k0_t51 v228 v257 k0_hw35 k0_t57)
theorem k0_t60_ok : ∀ (v1 : BitVec 32) (k0_t51 : Fin (k0_t51_loop v1).trips) (v228 : BitVec 32) (v257 : BitVec 32) (k0_hw35 : k0_chk35 v1 k0_t51 v228 v257), (k0_t60_loop v228 v257).OK := fun v1 k0_t51 v228 v257 k0_hw35 => k0_hw35.2.2.2.2.2.2.2.2.2.2.2.2.2.2.2.2.2.2.2.2.2.2.2.2.2.2.2.2.2.2.2.1.1
theorem k0_off2736_inb : ∀ (v1 : BitVec 32) (k0_t51 : Fin (k0_t51_loop v1).trips) (v228 : BitVec 32) (v257 : BitVec 32) (k0_hw35 : k0_chk35 v1 k0_t51 v228 v257) (k0_t60 : Fin (k0_t60_loop v228 v257).trips), ∀ a, (k0_off2736 v1 k0_t51) a + S1x1.size a ≤ S2x2.size a := fun v1 k0_t51 v228 v257 k0_hw35 k0_t60 => k0_hw35.2.2.2.2.2.2.2.2.2.2.2.2.2.2.2.2.2.2.2.2.2.2.2.2.2.2.2.2.2.2.2.1.2.1 k0_t60
theorem k0_off2737_inb : ∀ (v1 : BitVec 32) (k0_t51 : Fin (k0_t51_loop v1).trips) (v228 : BitVec 32) (v257 : BitVec 32) (k0_hw35 : k0_chk35 v1 k0_t51 v228 v257) (k0_t60 : Fin (k0_t60_loop v228 v257).trips), ∀ a, (k0_off2737 v1 k0_t51 v228 v257 k0_t60) a + S1x1x1x1728x128.size a ≤ S2x2x8x1728x128.size a := fun v1 k0_t51 v228 v257 k0_hw35 k0_t60 => k0_hw35.2.2.2.2.2.2.2.2.2.2.2.2.2.2.2.2.2.2.2.2.2.2.2.2.2.2.2.2.2.2.2.1.2.2.1 k0_t60
theorem k0_off2737_wordsfp8e4m3 : ∀ (v1 : BitVec 32) (k0_t51 : Fin (k0_t51_loop v1).trips) (v228 : BitVec 32) (v257 : BitVec 32) (k0_hw35 : k0_chk35 v1 k0_t51 v228 v257) (k0_t60 : Fin (k0_t60_loop v228 v257).trips), (Rect.unit (s := S2x2x8x1728x128) (k0_off2737 v1 k0_t51 v228 v257 k0_t60) S1x1x1x1728x128.size (k0_off2737_inb v1 k0_t51 v228 v257 k0_hw35 k0_t60)).WholeWords (EltTy.packing .fp8e4m3) := fun v1 k0_t51 v228 v257 k0_hw35 k0_t60 => k0_hw35.2.2.2.2.2.2.2.2.2.2.2.2.2.2.2.2.2.2.2.2.2.2.2.2.2.2.2.2.2.2.2.1.2.2.2.1 k0_t60 (k0_off2737_inb v1 k0_t51 v228 v257 k0_hw35 k0_t60)
theorem k0_t61_ok : ∀ (v1 : BitVec 32) (k0_t51 : Fin (k0_t51_loop v1).trips) (v228 : BitVec 32) (v257 : BitVec 32) (k0_hw35 : k0_chk35 v1 k0_t51 v228 v257), (k0_t61_loop v228 v257).OK := fun v1 k0_t51 v228 v257 k0_hw35 => k0_hw35.2.2.2.2.2.2.2.2.2.2.2.2.2.2.2.2.2.2.2.2.2.2.2.2.2.2.2.2.2.2.2.1.2.2.2.2.1
theorem k0_off2738_inb : ∀ (v1 : BitVec 32) (k0_t51 : Fin (k0_t51_loop v1).trips) (v228 : BitVec 32) (v257 : BitVec 32) (k0_hw35 : k0_chk35 v1 k0_t51 v228 v257) (k0_t61 : Fin (k0_t61_loop v228 v257).trips), ∀ a, (k0_off2738 v1 k0_t51) a + S1x1.size a ≤ S2x2.size a := fun v1 k0_t51 v228 v257 k0_hw35 k0_t61 => k0_hw35.2.2.2.2.2.2.2.2.2.2.2.2.2.2.2.2.2.2.2.2.2.2.2.2.2.2.2.2.2.2.2.1.2.2.2.2.2.1 k0_t61
theorem k0_off2739_inb : ∀ (v1 : BitVec 32) (k0_t51 : Fin (k0_t51_loop v1).trips) (v228 : BitVec 32) (v257 : BitVec 32) (k0_hw35 : k0_chk35 v1 k0_t51 v228 v257) (k0_t61 : Fin (k0_t61_loop v228 v257).trips), ∀ a, (k0_off2739 v1 k0_t51 v228 v257 k0_t61) a + S1x1x1x1728x128.size a ≤ S2x2x8x1728x128.size a := fun v1 k0_t51 v228 v257 k0_hw35 k0_t61 => k0_hw35.2.2.2.2.2.2.2.2.2.2.2.2.2.2.2.2.2.2.2.2.2.2.2.2.2.2.2.2.2.2.2.1.2.2.2.2.2.2.1 k0_t61
theorem k0_off2739_wordsfp8e4m3 : ∀ (v1 : BitVec 32) (k0_t51 : Fin (k0_t51_loop v1).trips) (v228 : BitVec 32) (v257 : BitVec 32) (k0_hw35 : k0_chk35 v1 k0_t51 v228 v257) (k0_t61 : Fin (k0_t61_loop v228 v257).trips), (Rect.unit (s := S2x2x8x1728x128) (k0_off2739 v1 k0_t51 v228 v257 k0_t61) S1x1x1x1728x128.size (k0_off2739_inb v1 k0_t51 v228 v257 k0_hw35 k0_t61)).WholeWords (EltTy.packing .fp8e4m3) := fun v1 k0_t51 v228 v257 k0_hw35 k0_t61 => k0_hw35.2.2.2.2.2.2.2.2.2.2.2.2.2.2.2.2.2.2.2.2.2.2.2.2.2.2.2.2.2.2.2.1.2.2.2.2.2.2.2.1 k0_t61 (k0_off2739_inb v1 k0_t51 v228 v257 k0_hw35 k0_t61)
theorem k0_t62_ok : ∀ (v1 : BitVec 32) (k0_t51 : Fin (k0_t51_loop v1).trips) (v228 : BitVec 32) (v257 : BitVec 32) (k0_hw35 : k0_chk35 v1 k0_t51 v228 v257), (k0_t62_loop v228 v257).OK := fun v1 k0_t51 v228 v257 k0_hw35 => k0_hw35.2.2.2.2.2.2.2.2.2.2.2.2.2.2.2.2.2.2.2.2.2.2.2.2.2.2.2.2.2.2.2.1.2.2.2.2.2.2.2.2.1
theorem k0_off2742_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2742 v228 v257 k0_t62) a + S1x1.size a ≤ S8x128.size a := fun v1 k0_t51 v228 v257 k0_hw35 k0_t62 => k0_hw35.2.2.2.2.2.2.2.2.2.2.2.2.2.2.2.2.2.2.2.2.2.2.2.2.2.2.2.2.2.2.2.1.2.2.2.2.2.2.2.2.2.1 k0_t62
theorem k0_off2743_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2743 v228) a + S1.size a ≤ S8.size a := fun v1 k0_t51 v228 v257 k0_hw35 k0_t62 => k0_hw35.2.2.2.2.2.2.2.2.2.2.2.2.2.2.2.2.2.2.2.2.2.2.2.2.2.2.2.2.2.2.2.1.2.2.2.2.2.2.2.2.2.2.1 k0_t62
theorem k0_mult24_dvd : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), 16 ∣ (k0_mult24 v228 v257 k0_t62).toNat := fun v1 k0_t51 v228 v257 k0_hw35 k0_t62 => k0_hw35.2.2.2.2.2.2.2.2.2.2.2.2.2.2.2.2.2.2.2.2.2.2.2.2.2.2.2.2.2.2.2.1.2.2.2.2.2.2.2.2.2.2.2.1 k0_t62
theorem k0_off2744_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2744 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.1.2.2.2.2.2.2.2.2.2.2.2.2.1 k0_t62
theorem k0_off2746_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2746 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.1.2.2.2.2.2.2.2.2.2.2.2.2.2.1 k0_t62
theorem k0_off2746_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2746 v1 k0_t51 v228 v257 k0_t62) S1x1x1x16x128.size (k0_off2746_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.1.2.2.2.2.2.2.2.2.2.2.2.2.2.2.1 k0_t62 (k0_off2746_inb v1 k0_t51 v228 v257 k0_hw35 k0_t62)
theorem k0_off2748_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2748 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.1.2.2.2.2.2.2.2.2.2.2.2.2.2.2.2.1 k0_t62
theorem k0_off2748_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2748 v1 k0_t51 v228 v257 k0_t62) S1x1x1x16x128.size (k0_off2748_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.1.2.2.2.2.2.2.2.2.2.2.2.2.2.2.2.2.1 k0_t62 (k0_off2748_inb v1 k0_t51 v228 v257 k0_hw35 k0_t62)
theorem k0_off2749_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2749 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.1.2.2.2.2.2.2.2.2.2.2.2.2.2.2.2.2.2.1 k0_t62
theorem k0_off2751_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2751 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.1.2.2.2.2.2.2.2.2.2.2.2.2.2.2.2.2.2.2.1 k0_t62
theorem k0_off2751_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2751 v1 k0_t51 v228 v257 k0_t62) S1x1x1x16x128.size (k0_off2751_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.1.2.2.2.2.2.2.2.2.2.2.2.2.2.2.2.2.2.2.2.1 k0_t62 (k0_off2751_inb v1 k0_t51 v228 v257 k0_hw35 k0_t62)
theorem k0_off2753_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2753 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.1.2.2.2.2.2.2.2.2.2.2.2.2.2.2.2.2.2.2.2.2.1 k0_t62
theorem k0_off2753_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2753 v1 k0_t51 v228 v257 k0_t62) S1x1x1x16x128.size (k0_off2753_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.1.2.2.2.2.2.2.2.2.2.2.2.2.2.2.2.2.2.2.2.2.2.1 k0_t62 (k0_off2753_inb v1 k0_t51 v228 v257 k0_hw35 k0_t62)
theorem k0_off2754_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2754 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.1.2.2.2.2.2.2.2.2.2.2.2.2.2.2.2.2.2.2.2.2.2.2.1 k0_t62
theorem k0_off2756_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2756 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.1.2.2.2.2.2.2.2.2.2.2.2.2.2.2.2.2.2.2.2.2.2.2.2.1 k0_t62
theorem k0_off2756_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2756 v1 k0_t51 v228 v257 k0_t62) S1x1x1x16x128.size (k0_off2756_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.1.2.2.2.2.2.2.2.2.2.2.2.2.2.2.2.2.2.2.2.2.2.2.2.2.1 k0_t62 (k0_off2756_inb v1 k0_t51 v228 v257 k0_hw35 k0_t62)
theorem k0_off2758_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2758 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.1.2.2.2.2.2.2.2.2.2.2.2.2.2.2.2.2.2.2.2.2.2.2.2.2.2.1 k0_t62
theorem k0_off2758_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2758 v1 k0_t51 v228 v257 k0_t62) S1x1x1x16x128.size (k0_off2758_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.1.2.2.2.2.2.2.2.2.2.2.2.2.2.2.2.2.2.2.2.2.2.2.2.2.2.2.1 k0_t62 (k0_off2758_inb v1 k0_t51 v228 v257 k0_hw35 k0_t62)
theorem k0_off2759_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2759 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t62
theorem k0_off2761_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2761 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t62
theorem k0_off2761_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2761 v1 k0_t51 v228 v257 k0_t62) S1x1x1x16x128.size (k0_off2761_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t62 (k0_off2761_inb v1 k0_t51 v228 v257 k0_hw35 k0_t62)
theorem k0_off2763_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2763 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t62
theorem k0_off2763_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2763 v1 k0_t51 v228 v257 k0_t62) S1x1x1x16x128.size (k0_off2763_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t62 (k0_off2763_inb v1 k0_t51 v228 v257 k0_hw35 k0_t62)
theorem k0_off2764_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2764 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.1.1 k0_t62
theorem k0_off2766_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2766 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.1.2.1 k0_t62
theorem k0_off2766_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2766 v1 k0_t51 v228 v257 k0_t62) S1x1x1x16x128.size (k0_off2766_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.1.2.2.1 k0_t62 (k0_off2766_inb v1 k0_t51 v228 v257 k0_hw35 k0_t62)
theorem k0_off2768_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2768 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.1.2.2.2.1 k0_t62
theorem k0_off2768_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2768 v1 k0_t51 v228 v257 k0_t62) S1x1x1x16x128.size (k0_off2768_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.1.2.2.2.2.1 k0_t62 (k0_off2768_inb v1 k0_t51 v228 v257 k0_hw35 k0_t62)
theorem k0_off2769_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2769 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.1.2.2.2.2.2.1 k0_t62
theorem k0_off2771_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2771 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.1.2.2.2.2.2.2.1 k0_t62
theorem k0_off2771_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2771 v1 k0_t51 v228 v257 k0_t62) S1x1x1x16x128.size (k0_off2771_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.1.2.2.2.2.2.2.2.1 k0_t62 (k0_off2771_inb v1 k0_t51 v228 v257 k0_hw35 k0_t62)
theorem k0_off2773_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2773 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.1.2.2.2.2.2.2.2.2.1 k0_t62
theorem k0_off2773_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2773 v1 k0_t51 v228 v257 k0_t62) S1x1x1x16x128.size (k0_off2773_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.1.2.2.2.2.2.2.2.2.2.1 k0_t62 (k0_off2773_inb v1 k0_t51 v228 v257 k0_hw35 k0_t62)
theorem k0_off2774_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2774 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.1.2.2.2.2.2.2.2.2.2.2.1 k0_t62
theorem k0_off2776_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2776 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.1.2.2.2.2.2.2.2.2.2.2.2.1 k0_t62
theorem k0_off2776_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2776 v1 k0_t51 v228 v257 k0_t62) S1x1x1x16x128.size (k0_off2776_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.1.2.2.2.2.2.2.2.2.2.2.2.2.1 k0_t62 (k0_off2776_inb v1 k0_t51 v228 v257 k0_hw35 k0_t62)
theorem k0_off2778_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2778 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.1.2.2.2.2.2.2.2.2.2.2.2.2.2.1 k0_t62
theorem k0_off2778_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2778 v1 k0_t51 v228 v257 k0_t62) S1x1x1x16x128.size (k0_off2778_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.1.2.2.2.2.2.2.2.2.2.2.2.2.2.2.1 k0_t62 (k0_off2778_inb v1 k0_t51 v228 v257 k0_hw35 k0_t62)
theorem k0_off2779_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2779 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.1.2.2.2.2.2.2.2.2.2.2.2.2.2.2.2.1 k0_t62
theorem k0_off2781_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2781 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.1.2.2.2.2.2.2.2.2.2.2.2.2.2.2.2.2.1 k0_t62
theorem k0_off2781_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2781 v1 k0_t51 v228 v257 k0_t62) S1x1x1x16x128.size (k0_off2781_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.1.2.2.2.2.2.2.2.2.2.2.2.2.2.2.2.2.2.1 k0_t62 (k0_off2781_inb v1 k0_t51 v228 v257 k0_hw35 k0_t62)
theorem k0_off2783_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2783 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.1.2.2.2.2.2.2.2.2.2.2.2.2.2.2.2.2.2.2.1 k0_t62
theorem k0_off2783_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2783 v1 k0_t51 v228 v257 k0_t62) S1x1x1x16x128.size (k0_off2783_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.1.2.2.2.2.2.2.2.2.2.2.2.2.2.2.2.2.2.2.2.1 k0_t62 (k0_off2783_inb v1 k0_t51 v228 v257 k0_hw35 k0_t62)
theorem k0_off2784_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2784 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.1.2.2.2.2.2.2.2.2.2.2.2.2.2.2.2.2.2.2.2.2.1 k0_t62
theorem k0_off2786_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2786 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.1.2.2.2.2.2.2.2.2.2.2.2.2.2.2.2.2.2.2.2.2.2.1 k0_t62
theorem k0_off2786_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2786 v1 k0_t51 v228 v257 k0_t62) S1x1x1x16x128.size (k0_off2786_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.1.2.2.2.2.2.2.2.2.2.2.2.2.2.2.2.2.2.2.2.2.2.2.1 k0_t62 (k0_off2786_inb v1 k0_t51 v228 v257 k0_hw35 k0_t62)
theorem k0_off2788_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2788 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.1.2.2.2.2.2.2.2.2.2.2.2.2.2.2.2.2.2.2.2.2.2.2.2.1 k0_t62
theorem k0_off2788_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2788 v1 k0_t51 v228 v257 k0_t62) S1x1x1x16x128.size (k0_off2788_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.1.2.2.2.2.2.2.2.2.2.2.2.2.2.2.2.2.2.2.2.2.2.2.2.2.1 k0_t62 (k0_off2788_inb v1 k0_t51 v228 v257 k0_hw35 k0_t62)
theorem k0_off2789_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2789 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.1.2.2.2.2.2.2.2.2.2.2.2.2.2.2.2.2.2.2.2.2.2.2.2.2.2.1 k0_t62
theorem k0_off2791_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2791 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t62
theorem k0_off2791_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2791 v1 k0_t51 v228 v257 k0_t62) S1x1x1x16x128.size (k0_off2791_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t62 (k0_off2791_inb v1 k0_t51 v228 v257 k0_hw35 k0_t62)
theorem k0_off2793_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2793 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t62
theorem k0_off2793_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2793 v1 k0_t51 v228 v257 k0_t62) S1x1x1x16x128.size (k0_off2793_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t62 (k0_off2793_inb v1 k0_t51 v228 v257 k0_hw35 k0_t62)
theorem k0_off2794_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2794 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t62
theorem k0_off2796_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2796 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t62
theorem k0_off2796_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2796 v1 k0_t51 v228 v257 k0_t62) S1x1x1x16x128.size (k0_off2796_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.1.1 k0_t62 (k0_off2796_inb v1 k0_t51 v228 v257 k0_hw35 k0_t62)
theorem k0_off2798_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2798 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.1.2.1 k0_t62
theorem k0_off2798_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2798 v1 k0_t51 v228 v257 k0_t62) S1x1x1x16x128.size (k0_off2798_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.1.2.2.1 k0_t62 (k0_off2798_inb v1 k0_t51 v228 v257 k0_hw35 k0_t62)
theorem k0_off2799_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2799 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.1.2.2.2.1 k0_t62
theorem k0_off2801_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2801 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.1.2.2.2.2.1 k0_t62
theorem k0_off2801_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2801 v1 k0_t51 v228 v257 k0_t62) S1x1x1x16x128.size (k0_off2801_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.1.2.2.2.2.2.1 k0_t62 (k0_off2801_inb v1 k0_t51 v228 v257 k0_hw35 k0_t62)
theorem k0_off2803_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2803 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.1.2.2.2.2.2.2.1 k0_t62
theorem k0_off2803_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2803 v1 k0_t51 v228 v257 k0_t62) S1x1x1x16x128.size (k0_off2803_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.1.2.2.2.2.2.2.2.1 k0_t62 (k0_off2803_inb v1 k0_t51 v228 v257 k0_hw35 k0_t62)
theorem k0_off2804_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2804 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.1.2.2.2.2.2.2.2.2.1 k0_t62
theorem k0_off2806_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2806 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.1.2.2.2.2.2.2.2.2.2.1 k0_t62
theorem k0_off2806_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2806 v1 k0_t51 v228 v257 k0_t62) S1x1x1x16x128.size (k0_off2806_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.1.2.2.2.2.2.2.2.2.2.2.1 k0_t62 (k0_off2806_inb v1 k0_t51 v228 v257 k0_hw35 k0_t62)
theorem k0_off2808_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2808 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.1.2.2.2.2.2.2.2.2.2.2.2.1 k0_t62
theorem k0_off2808_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2808 v1 k0_t51 v228 v257 k0_t62) S1x1x1x16x128.size (k0_off2808_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.1.2.2.2.2.2.2.2.2.2.2.2.2.1 k0_t62 (k0_off2808_inb v1 k0_t51 v228 v257 k0_hw35 k0_t62)
theorem k0_off2809_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2809 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.1.2.2.2.2.2.2.2.2.2.2.2.2.2.1 k0_t62
theorem k0_off2811_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2811 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.1.2.2.2.2.2.2.2.2.2.2.2.2.2.2.1 k0_t62
theorem k0_off2811_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2811 v1 k0_t51 v228 v257 k0_t62) S1x1x1x16x128.size (k0_off2811_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.1.2.2.2.2.2.2.2.2.2.2.2.2.2.2.2.1 k0_t62 (k0_off2811_inb v1 k0_t51 v228 v257 k0_hw35 k0_t62)
theorem k0_off2813_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2813 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.1.2.2.2.2.2.2.2.2.2.2.2.2.2.2.2.2.1 k0_t62
theorem k0_off2813_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2813 v1 k0_t51 v228 v257 k0_t62) S1x1x1x16x128.size (k0_off2813_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.1.2.2.2.2.2.2.2.2.2.2.2.2.2.2.2.2.2.1 k0_t62 (k0_off2813_inb v1 k0_t51 v228 v257 k0_hw35 k0_t62)
theorem k0_off2814_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2814 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.1.2.2.2.2.2.2.2.2.2.2.2.2.2.2.2.2.2.2.1 k0_t62
theorem k0_off2816_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2816 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.1.2.2.2.2.2.2.2.2.2.2.2.2.2.2.2.2.2.2.2.1 k0_t62
theorem k0_off2816_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2816 v1 k0_t51 v228 v257 k0_t62) S1x1x1x16x128.size (k0_off2816_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.1.2.2.2.2.2.2.2.2.2.2.2.2.2.2.2.2.2.2.2.2.1 k0_t62 (k0_off2816_inb v1 k0_t51 v228 v257 k0_hw35 k0_t62)
theorem k0_off2818_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2818 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.1.2.2.2.2.2.2.2.2.2.2.2.2.2.2.2.2.2.2.2.2.2.1 k0_t62
theorem k0_off2818_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2818 v1 k0_t51 v228 v257 k0_t62) S1x1x1x16x128.size (k0_off2818_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.1.2.2.2.2.2.2.2.2.2.2.2.2.2.2.2.2.2.2.2.2.2.2.1 k0_t62 (k0_off2818_inb v1 k0_t51 v228 v257 k0_hw35 k0_t62)
theorem k0_off2819_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2819 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.1.2.2.2.2.2.2.2.2.2.2.2.2.2.2.2.2.2.2.2.2.2.2.2.1 k0_t62
theorem k0_off2821_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2821 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.1.2.2.2.2.2.2.2.2.2.2.2.2.2.2.2.2.2.2.2.2.2.2.2.2.1 k0_t62
theorem k0_off2821_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2821 v1 k0_t51 v228 v257 k0_t62) S1x1x1x16x128.size (k0_off2821_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t62 (k0_off2821_inb v1 k0_t51 v228 v257 k0_hw35 k0_t62)
theorem k0_off2823_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2823 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t62
theorem k0_off2823_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2823 v1 k0_t51 v228 v257 k0_t62) S1x1x1x16x128.size (k0_off2823_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t62 (k0_off2823_inb v1 k0_t51 v228 v257 k0_hw35 k0_t62)
theorem k0_off2824_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2824 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t62
theorem k0_off2826_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2826 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t62
theorem k0_off2826_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2826 v1 k0_t51 v228 v257 k0_t62) S1x1x1x16x128.size (k0_off2826_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t62 (k0_off2826_inb v1 k0_t51 v228 v257 k0_hw35 k0_t62)
theorem k0_off2828_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2828 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t62
theorem k0_off2828_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2828 v1 k0_t51 v228 v257 k0_t62) S1x1x1x16x128.size (k0_off2828_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.1.1 k0_t62 (k0_off2828_inb v1 k0_t51 v228 v257 k0_hw35 k0_t62)
theorem k0_off2829_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2829 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.1.2.1 k0_t62
theorem k0_off2831_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2831 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.1.2.2.1 k0_t62
theorem k0_off2831_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2831 v1 k0_t51 v228 v257 k0_t62) S1x1x1x16x128.size (k0_off2831_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.1.2.2.2.1 k0_t62 (k0_off2831_inb v1 k0_t51 v228 v257 k0_hw35 k0_t62)
theorem k0_off2833_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2833 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.1.2.2.2.2.1 k0_t62
theorem k0_off2833_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2833 v1 k0_t51 v228 v257 k0_t62) S1x1x1x16x128.size (k0_off2833_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.1.2.2.2.2.2.1 k0_t62 (k0_off2833_inb v1 k0_t51 v228 v257 k0_hw35 k0_t62)
theorem k0_off2834_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2834 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.1.2.2.2.2.2.2.1 k0_t62
theorem k0_off2836_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2836 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.1.2.2.2.2.2.2.2.1 k0_t62
theorem k0_off2836_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2836 v1 k0_t51 v228 v257 k0_t62) S1x1x1x16x128.size (k0_off2836_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.1.2.2.2.2.2.2.2.2.1 k0_t62 (k0_off2836_inb v1 k0_t51 v228 v257 k0_hw35 k0_t62)
theorem k0_off2838_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2838 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.1.2.2.2.2.2.2.2.2.2.1 k0_t62
theorem k0_off2838_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2838 v1 k0_t51 v228 v257 k0_t62) S1x1x1x16x128.size (k0_off2838_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.1.2.2.2.2.2.2.2.2.2.2.1 k0_t62 (k0_off2838_inb v1 k0_t51 v228 v257 k0_hw35 k0_t62)
theorem k0_off2839_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2839 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.1.2.2.2.2.2.2.2.2.2.2.2.1 k0_t62
theorem k0_off2841_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2841 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.1.2.2.2.2.2.2.2.2.2.2.2.2.1 k0_t62
theorem k0_off2841_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2841 v1 k0_t51 v228 v257 k0_t62) S1x1x1x16x128.size (k0_off2841_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.1.2.2.2.2.2.2.2.2.2.2.2.2.2.1 k0_t62 (k0_off2841_inb v1 k0_t51 v228 v257 k0_hw35 k0_t62)
theorem k0_off2843_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2843 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.1.2.2.2.2.2.2.2.2.2.2.2.2.2.2.1 k0_t62
theorem k0_off2843_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2843 v1 k0_t51 v228 v257 k0_t62) S1x1x1x16x128.size (k0_off2843_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.1.2.2.2.2.2.2.2.2.2.2.2.2.2.2.2.1 k0_t62 (k0_off2843_inb v1 k0_t51 v228 v257 k0_hw35 k0_t62)
theorem k0_off2844_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2844 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.1.2.2.2.2.2.2.2.2.2.2.2.2.2.2.2.2.1 k0_t62
theorem k0_off2846_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2846 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.1.2.2.2.2.2.2.2.2.2.2.2.2.2.2.2.2.2.1 k0_t62
theorem k0_off2846_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2846 v1 k0_t51 v228 v257 k0_t62) S1x1x1x16x128.size (k0_off2846_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.1.2.2.2.2.2.2.2.2.2.2.2.2.2.2.2.2.2.2.1 k0_t62 (k0_off2846_inb v1 k0_t51 v228 v257 k0_hw35 k0_t62)
theorem k0_off2848_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2848 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.1.2.2.2.2.2.2.2.2.2.2.2.2.2.2.2.2.2.2.2.1 k0_t62
theorem k0_off2848_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2848 v1 k0_t51 v228 v257 k0_t62) S1x1x1x16x128.size (k0_off2848_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.1.2.2.2.2.2.2.2.2.2.2.2.2.2.2.2.2.2.2.2.2.1 k0_t62 (k0_off2848_inb v1 k0_t51 v228 v257 k0_hw35 k0_t62)
theorem k0_off2849_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2849 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.1.2.2.2.2.2.2.2.2.2.2.2.2.2.2.2.2.2.2.2.2.2.1 k0_t62
theorem k0_off2851_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2851 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.1.2.2.2.2.2.2.2.2.2.2.2.2.2.2.2.2.2.2.2.2.2.2.1 k0_t62
theorem k0_off2851_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2851 v1 k0_t51 v228 v257 k0_t62) S1x1x1x16x128.size (k0_off2851_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.1.2.2.2.2.2.2.2.2.2.2.2.2.2.2.2.2.2.2.2.2.2.2.2.1 k0_t62 (k0_off2851_inb v1 k0_t51 v228 v257 k0_hw35 k0_t62)
theorem k0_off2853_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2853 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t62
theorem k0_off2853_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2853 v1 k0_t51 v228 v257 k0_t62) S1x1x1x16x128.size (k0_off2853_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t62 (k0_off2853_inb v1 k0_t51 v228 v257 k0_hw35 k0_t62)
theorem k0_off2854_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2854 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t62
theorem k0_off2856_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2856 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t62
theorem k0_off2856_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2856 v1 k0_t51 v228 v257 k0_t62) S1x1x1x16x128.size (k0_off2856_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t62 (k0_off2856_inb v1 k0_t51 v228 v257 k0_hw35 k0_t62)
theorem k0_off2858_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2858 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t62
theorem k0_off2858_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2858 v1 k0_t51 v228 v257 k0_t62) S1x1x1x16x128.size (k0_off2858_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t62 (k0_off2858_inb v1 k0_t51 v228 v257 k0_hw35 k0_t62)
theorem k0_off2859_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2859 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t62
theorem k0_off2861_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2861 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.1.1 k0_t62
theorem k0_off2861_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2861 v1 k0_t51 v228 v257 k0_t62) S1x1x1x16x128.size (k0_off2861_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.1.2.1 k0_t62 (k0_off2861_inb v1 k0_t51 v228 v257 k0_hw35 k0_t62)
theorem k0_off2863_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2863 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.1.2.2.1 k0_t62
theorem k0_off2863_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2863 v1 k0_t51 v228 v257 k0_t62) S1x1x1x16x128.size (k0_off2863_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.1.2.2.2.1 k0_t62 (k0_off2863_inb v1 k0_t51 v228 v257 k0_hw35 k0_t62)
theorem k0_off2864_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2864 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.2.1.2.2.2.2.1 k0_t62
theorem k0_off2866_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2866 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.1.2.2.2.2.2.1 k0_t62
theorem k0_off2866_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2866 v1 k0_t51 v228 v257 k0_t62) S1x1x1x16x128.size (k0_off2866_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.1.2.2.2.2.2.2.1 k0_t62 (k0_off2866_inb v1 k0_t51 v228 v257 k0_hw35 k0_t62)
theorem k0_off2868_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2868 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.1.2.2.2.2.2.2.2.1 k0_t62
theorem k0_off2868_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2868 v1 k0_t51 v228 v257 k0_t62) S1x1x1x16x128.size (k0_off2868_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.1.2.2.2.2.2.2.2.2.1 k0_t62 (k0_off2868_inb v1 k0_t51 v228 v257 k0_hw35 k0_t62)
theorem k0_off2869_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2869 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.2.1.2.2.2.2.2.2.2.2.2.1 k0_t62
theorem k0_off2871_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2871 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.1.2.2.2.2.2.2.2.2.2.2.1 k0_t62
theorem k0_off2871_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2871 v1 k0_t51 v228 v257 k0_t62) S1x1x1x16x128.size (k0_off2871_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.1.2.2.2.2.2.2.2.2.2.2.2.1 k0_t62 (k0_off2871_inb v1 k0_t51 v228 v257 k0_hw35 k0_t62)
theorem k0_off2873_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2873 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.1.2.2.2.2.2.2.2.2.2.2.2.2.1 k0_t62
theorem k0_off2873_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2873 v1 k0_t51 v228 v257 k0_t62) S1x1x1x16x128.size (k0_off2873_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.1.2.2.2.2.2.2.2.2.2.2.2.2.2.1 k0_t62 (k0_off2873_inb v1 k0_t51 v228 v257 k0_hw35 k0_t62)
theorem k0_off2874_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2874 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.2.1.2.2.2.2.2.2.2.2.2.2.2.2.2.2.1 k0_t62
theorem k0_off2876_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2876 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.1.2.2.2.2.2.2.2.2.2.2.2.2.2.2.2.1 k0_t62
theorem k0_off2876_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2876 v1 k0_t51 v228 v257 k0_t62) S1x1x1x16x128.size (k0_off2876_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.1.2.2.2.2.2.2.2.2.2.2.2.2.2.2.2.2.1 k0_t62 (k0_off2876_inb v1 k0_t51 v228 v257 k0_hw35 k0_t62)
theorem k0_off2878_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2878 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.1.2.2.2.2.2.2.2.2.2.2.2.2.2.2.2.2.2.1 k0_t62
theorem k0_off2878_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2878 v1 k0_t51 v228 v257 k0_t62) S1x1x1x16x128.size (k0_off2878_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.1.2.2.2.2.2.2.2.2.2.2.2.2.2.2.2.2.2.2.1 k0_t62 (k0_off2878_inb v1 k0_t51 v228 v257 k0_hw35 k0_t62)
theorem k0_off2879_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2879 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.2.1.2.2.2.2.2.2.2.2.2.2.2.2.2.2.2.2.2.2.2.1 k0_t62
theorem k0_off2881_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2881 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.1.2.2.2.2.2.2.2.2.2.2.2.2.2.2.2.2.2.2.2.2.1 k0_t62
theorem k0_off2881_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2881 v1 k0_t51 v228 v257 k0_t62) S1x1x1x16x128.size (k0_off2881_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.1.2.2.2.2.2.2.2.2.2.2.2.2.2.2.2.2.2.2.2.2.2.1 k0_t62 (k0_off2881_inb v1 k0_t51 v228 v257 k0_hw35 k0_t62)
theorem k0_off2883_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2883 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.1.2.2.2.2.2.2.2.2.2.2.2.2.2.2.2.2.2.2.2.2.2.2.1 k0_t62
theorem k0_off2883_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2883 v1 k0_t51 v228 v257 k0_t62) S1x1x1x16x128.size (k0_off2883_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t62 (k0_off2883_inb v1 k0_t51 v228 v257 k0_hw35 k0_t62)
theorem k0_off2884_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2884 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t62
theorem k0_off2886_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2886 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t62
theorem k0_off2886_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2886 v1 k0_t51 v228 v257 k0_t62) S1x1x1x16x128.size (k0_off2886_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t62 (k0_off2886_inb v1 k0_t51 v228 v257 k0_hw35 k0_t62)
theorem k0_off2888_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2888 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t62
theorem k0_off2888_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2888 v1 k0_t51 v228 v257 k0_t62) S1x1x1x16x128.size (k0_off2888_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t62 (k0_off2888_inb v1 k0_t51 v228 v257 k0_hw35 k0_t62)
theorem k0_off2889_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2889 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t62
theorem k0_off2891_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2891 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t62
theorem k0_off2891_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2891 v1 k0_t51 v228 v257 k0_t62) S1x1x1x16x128.size (k0_off2891_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t62 (k0_off2891_inb v1 k0_t51 v228 v257 k0_hw35 k0_t62)
theorem k0_off2893_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2893 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.1.1 k0_t62
theorem k0_off2893_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2893 v1 k0_t51 v228 v257 k0_t62) S1x1x1x16x128.size (k0_off2893_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.1.2.1 k0_t62 (k0_off2893_inb v1 k0_t51 v228 v257 k0_hw35 k0_t62)
theorem k0_off2894_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2894 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.2.2.1.2.2.1 k0_t62
theorem k0_off2896_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2896 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.1.2.2.2.1 k0_t62
theorem k0_off2896_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2896 v1 k0_t51 v228 v257 k0_t62) S1x1x1x16x128.size (k0_off2896_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.1.2.2.2.2.1 k0_t62 (k0_off2896_inb v1 k0_t51 v228 v257 k0_hw35 k0_t62)
theorem k0_off2898_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2898 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.1.2.2.2.2.2.1 k0_t62
theorem k0_off2898_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2898 v1 k0_t51 v228 v257 k0_t62) S1x1x1x16x128.size (k0_off2898_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.1.2.2.2.2.2.2.1 k0_t62 (k0_off2898_inb v1 k0_t51 v228 v257 k0_hw35 k0_t62)
theorem k0_off2899_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2899 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.2.2.1.2.2.2.2.2.2.2.1 k0_t62
theorem k0_off2901_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2901 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.1.2.2.2.2.2.2.2.2.1 k0_t62
theorem k0_off2901_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2901 v1 k0_t51 v228 v257 k0_t62) S1x1x1x16x128.size (k0_off2901_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.1.2.2.2.2.2.2.2.2.2.1 k0_t62 (k0_off2901_inb v1 k0_t51 v228 v257 k0_hw35 k0_t62)
theorem k0_off2903_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2903 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.1.2.2.2.2.2.2.2.2.2.2.1 k0_t62
theorem k0_off2903_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2903 v1 k0_t51 v228 v257 k0_t62) S1x1x1x16x128.size (k0_off2903_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.1.2.2.2.2.2.2.2.2.2.2.2.1 k0_t62 (k0_off2903_inb v1 k0_t51 v228 v257 k0_hw35 k0_t62)
theorem k0_off2904_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2904 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.2.2.1.2.2.2.2.2.2.2.2.2.2.2.2.1 k0_t62
theorem k0_off2906_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2906 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.1.2.2.2.2.2.2.2.2.2.2.2.2.2.1 k0_t62
theorem k0_off2906_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2906 v1 k0_t51 v228 v257 k0_t62) S1x1x1x16x128.size (k0_off2906_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.1.2.2.2.2.2.2.2.2.2.2.2.2.2.2.1 k0_t62 (k0_off2906_inb v1 k0_t51 v228 v257 k0_hw35 k0_t62)
theorem k0_off2908_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2908 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.1.2.2.2.2.2.2.2.2.2.2.2.2.2.2.2.1 k0_t62
theorem k0_off2908_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2908 v1 k0_t51 v228 v257 k0_t62) S1x1x1x16x128.size (k0_off2908_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.1.2.2.2.2.2.2.2.2.2.2.2.2.2.2.2.2.1 k0_t62 (k0_off2908_inb v1 k0_t51 v228 v257 k0_hw35 k0_t62)
theorem k0_off2909_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2909 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.2.2.1.2.2.2.2.2.2.2.2.2.2.2.2.2.2.2.2.2.1 k0_t62
theorem k0_off2911_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2911 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.1.2.2.2.2.2.2.2.2.2.2.2.2.2.2.2.2.2.2.1 k0_t62
theorem k0_off2911_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2911 v1 k0_t51 v228 v257 k0_t62) S1x1x1x16x128.size (k0_off2911_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.1.2.2.2.2.2.2.2.2.2.2.2.2.2.2.2.2.2.2.2.1 k0_t62 (k0_off2911_inb v1 k0_t51 v228 v257 k0_hw35 k0_t62)
theorem k0_off2913_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2913 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.1.2.2.2.2.2.2.2.2.2.2.2.2.2.2.2.2.2.2.2.2.1 k0_t62
theorem k0_off2913_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2913 v1 k0_t51 v228 v257 k0_t62) S1x1x1x16x128.size (k0_off2913_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.1.2.2.2.2.2.2.2.2.2.2.2.2.2.2.2.2.2.2.2.2.2.1 k0_t62 (k0_off2913_inb v1 k0_t51 v228 v257 k0_hw35 k0_t62)
theorem k0_off2914_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2914 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t62
theorem k0_off2916_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2916 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t62
theorem k0_off2916_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2916 v1 k0_t51 v228 v257 k0_t62) S1x1x1x16x128.size (k0_off2916_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t62 (k0_off2916_inb v1 k0_t51 v228 v257 k0_hw35 k0_t62)
theorem k0_off2918_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2918 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t62
theorem k0_off2918_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2918 v1 k0_t51 v228 v257 k0_t62) S1x1x1x16x128.size (k0_off2918_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t62 (k0_off2918_inb v1 k0_t51 v228 v257 k0_hw35 k0_t62)
theorem k0_off2919_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2919 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t62
theorem k0_off2921_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2921 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t62
theorem k0_off2921_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2921 v1 k0_t51 v228 v257 k0_t62) S1x1x1x16x128.size (k0_off2921_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t62 (k0_off2921_inb v1 k0_t51 v228 v257 k0_hw35 k0_t62)
theorem k0_off2923_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2923 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t62
theorem k0_off2923_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2923 v1 k0_t51 v228 v257 k0_t62) S1x1x1x16x128.size (k0_off2923_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t62 (k0_off2923_inb v1 k0_t51 v228 v257 k0_hw35 k0_t62)
theorem k0_off2924_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2924 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.2.2.2.1.1 k0_t62
theorem k0_off2926_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2926 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.1.2.1 k0_t62
theorem k0_off2926_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2926 v1 k0_t51 v228 v257 k0_t62) S1x1x1x16x128.size (k0_off2926_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.1.2.2.1 k0_t62 (k0_off2926_inb v1 k0_t51 v228 v257 k0_hw35 k0_t62)
theorem k0_off2928_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2928 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.1.2.2.2.1 k0_t62
theorem k0_off2928_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2928 v1 k0_t51 v228 v257 k0_t62) S1x1x1x16x128.size (k0_off2928_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.1.2.2.2.2.1 k0_t62 (k0_off2928_inb v1 k0_t51 v228 v257 k0_hw35 k0_t62)
theorem k0_off2929_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2929 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.2.2.2.1.2.2.2.2.2.1 k0_t62
theorem k0_off2931_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2931 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.1.2.2.2.2.2.2.1 k0_t62
theorem k0_off2931_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2931 v1 k0_t51 v228 v257 k0_t62) S1x1x1x16x128.size (k0_off2931_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.1.2.2.2.2.2.2.2.1 k0_t62 (k0_off2931_inb v1 k0_t51 v228 v257 k0_hw35 k0_t62)
theorem k0_off2933_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2933 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.1.2.2.2.2.2.2.2.2.1 k0_t62
theorem k0_off2933_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2933 v1 k0_t51 v228 v257 k0_t62) S1x1x1x16x128.size (k0_off2933_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.1.2.2.2.2.2.2.2.2.2.1 k0_t62 (k0_off2933_inb v1 k0_t51 v228 v257 k0_hw35 k0_t62)
theorem k0_off2934_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2934 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.2.2.2.1.2.2.2.2.2.2.2.2.2.2.1 k0_t62
theorem k0_off2936_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2936 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.1.2.2.2.2.2.2.2.2.2.2.2.1 k0_t62
theorem k0_off2936_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2936 v1 k0_t51 v228 v257 k0_t62) S1x1x1x16x128.size (k0_off2936_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.1.2.2.2.2.2.2.2.2.2.2.2.2.1 k0_t62 (k0_off2936_inb v1 k0_t51 v228 v257 k0_hw35 k0_t62)
theorem k0_off2938_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2938 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.1.2.2.2.2.2.2.2.2.2.2.2.2.2.1 k0_t62
theorem k0_off2938_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2938 v1 k0_t51 v228 v257 k0_t62) S1x1x1x16x128.size (k0_off2938_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.1.2.2.2.2.2.2.2.2.2.2.2.2.2.2.1 k0_t62 (k0_off2938_inb v1 k0_t51 v228 v257 k0_hw35 k0_t62)
theorem k0_off2939_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2939 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.2.2.2.1.2.2.2.2.2.2.2.2.2.2.2.2.2.2.2.1 k0_t62
theorem k0_off2941_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2941 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.1.2.2.2.2.2.2.2.2.2.2.2.2.2.2.2.2.1 k0_t62
theorem k0_off2941_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2941 v1 k0_t51 v228 v257 k0_t62) S1x1x1x16x128.size (k0_off2941_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.1.2.2.2.2.2.2.2.2.2.2.2.2.2.2.2.2.2.1 k0_t62 (k0_off2941_inb v1 k0_t51 v228 v257 k0_hw35 k0_t62)
theorem k0_off2943_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2943 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.1.2.2.2.2.2.2.2.2.2.2.2.2.2.2.2.2.2.2.1 k0_t62
theorem k0_off2943_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2943 v1 k0_t51 v228 v257 k0_t62) S1x1x1x16x128.size (k0_off2943_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.1.2.2.2.2.2.2.2.2.2.2.2.2.2.2.2.2.2.2.2.1 k0_t62 (k0_off2943_inb v1 k0_t51 v228 v257 k0_hw35 k0_t62)
theorem k0_off2944_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2944 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.2.2.2.1.2.2.2.2.2.2.2.2.2.2.2.2.2.2.2.2.2.2.2.2.1 k0_t62
theorem k0_off2946_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2946 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t62
theorem k0_off2946_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2946 v1 k0_t51 v228 v257 k0_t62) S1x1x1x16x128.size (k0_off2946_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t62 (k0_off2946_inb v1 k0_t51 v228 v257 k0_hw35 k0_t62)
theorem k0_off2948_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2948 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t62
theorem k0_off2948_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2948 v1 k0_t51 v228 v257 k0_t62) S1x1x1x16x128.size (k0_off2948_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t62 (k0_off2948_inb v1 k0_t51 v228 v257 k0_hw35 k0_t62)
theorem k0_off2949_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2949 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t62
theorem k0_off2951_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2951 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t62
theorem k0_off2951_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2951 v1 k0_t51 v228 v257 k0_t62) S1x1x1x16x128.size (k0_off2951_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t62 (k0_off2951_inb v1 k0_t51 v228 v257 k0_hw35 k0_t62)
theorem k0_off2953_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2953 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t62
theorem k0_off2953_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2953 v1 k0_t51 v228 v257 k0_t62) S1x1x1x16x128.size (k0_off2953_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t62 (k0_off2953_inb v1 k0_t51 v228 v257 k0_hw35 k0_t62)
theorem k0_off2954_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2954 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t62
theorem k0_off2956_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2956 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t62
theorem k0_off2956_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2956 v1 k0_t51 v228 v257 k0_t62) S1x1x1x16x128.size (k0_off2956_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.2.1.1 k0_t62 (k0_off2956_inb v1 k0_t51 v228 v257 k0_hw35 k0_t62)
theorem k0_off2958_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2958 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.2.1.2.1 k0_t62
theorem k0_off2958_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2958 v1 k0_t51 v228 v257 k0_t62) S1x1x1x16x128.size (k0_off2958_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.2.1.2.2.1 k0_t62 (k0_off2958_inb v1 k0_t51 v228 v257 k0_hw35 k0_t62)
theorem k0_off2959_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2959 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.2.2.2.2.1.2.2.2.1 k0_t62
theorem k0_off2961_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2961 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.2.1.2.2.2.2.1 k0_t62
theorem k0_off2961_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2961 v1 k0_t51 v228 v257 k0_t62) S1x1x1x16x128.size (k0_off2961_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.2.1.2.2.2.2.2.1 k0_t62 (k0_off2961_inb v1 k0_t51 v228 v257 k0_hw35 k0_t62)
theorem k0_off2963_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2963 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.2.1.2.2.2.2.2.2.1 k0_t62
theorem k0_off2963_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2963 v1 k0_t51 v228 v257 k0_t62) S1x1x1x16x128.size (k0_off2963_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.2.1.2.2.2.2.2.2.2.1 k0_t62 (k0_off2963_inb v1 k0_t51 v228 v257 k0_hw35 k0_t62)
theorem k0_off2964_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2964 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.2.2.2.2.1.2.2.2.2.2.2.2.2.1 k0_t62
theorem k0_off2966_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2966 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.2.1.2.2.2.2.2.2.2.2.2.1 k0_t62
theorem k0_off2966_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2966 v1 k0_t51 v228 v257 k0_t62) S1x1x1x16x128.size (k0_off2966_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.2.1.2.2.2.2.2.2.2.2.2.2.1 k0_t62 (k0_off2966_inb v1 k0_t51 v228 v257 k0_hw35 k0_t62)
theorem k0_off2968_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2968 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.2.1.2.2.2.2.2.2.2.2.2.2.2.1 k0_t62
theorem k0_off2968_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2968 v1 k0_t51 v228 v257 k0_t62) S1x1x1x16x128.size (k0_off2968_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.2.1.2.2.2.2.2.2.2.2.2.2.2.2.1 k0_t62 (k0_off2968_inb v1 k0_t51 v228 v257 k0_hw35 k0_t62)
theorem k0_off2969_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2969 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.2.2.2.2.1.2.2.2.2.2.2.2.2.2.2.2.2.2.1 k0_t62
theorem k0_off2971_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2971 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.2.1.2.2.2.2.2.2.2.2.2.2.2.2.2.2.1 k0_t62
theorem k0_off2971_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2971 v1 k0_t51 v228 v257 k0_t62) S1x1x1x16x128.size (k0_off2971_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.2.1.2.2.2.2.2.2.2.2.2.2.2.2.2.2.2.1 k0_t62 (k0_off2971_inb v1 k0_t51 v228 v257 k0_hw35 k0_t62)
theorem k0_off2973_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2973 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.2.1.2.2.2.2.2.2.2.2.2.2.2.2.2.2.2.2.1 k0_t62
theorem k0_off2973_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2973 v1 k0_t51 v228 v257 k0_t62) S1x1x1x16x128.size (k0_off2973_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.2.1.2.2.2.2.2.2.2.2.2.2.2.2.2.2.2.2.2.1 k0_t62 (k0_off2973_inb v1 k0_t51 v228 v257 k0_hw35 k0_t62)
theorem k0_off2974_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2974 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.2.2.2.2.1.2.2.2.2.2.2.2.2.2.2.2.2.2.2.2.2.2.2.1 k0_t62
theorem k0_off2976_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2976 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.2.1.2.2.2.2.2.2.2.2.2.2.2.2.2.2.2.2.2.2.2.1 k0_t62
theorem k0_off2976_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2976 v1 k0_t51 v228 v257 k0_t62) S1x1x1x16x128.size (k0_off2976_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t62 (k0_off2976_inb v1 k0_t51 v228 v257 k0_hw35 k0_t62)
theorem k0_off2978_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2978 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t62
theorem k0_off2978_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2978 v1 k0_t51 v228 v257 k0_t62) S1x1x1x16x128.size (k0_off2978_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t62 (k0_off2978_inb v1 k0_t51 v228 v257 k0_hw35 k0_t62)
theorem k0_off2979_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2979 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t62
theorem k0_off2981_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2981 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t62
theorem k0_off2981_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2981 v1 k0_t51 v228 v257 k0_t62) S1x1x1x16x128.size (k0_off2981_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t62 (k0_off2981_inb v1 k0_t51 v228 v257 k0_hw35 k0_t62)
theorem k0_off2983_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2983 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t62
theorem k0_off2983_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2983 v1 k0_t51 v228 v257 k0_t62) S1x1x1x16x128.size (k0_off2983_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t62 (k0_off2983_inb v1 k0_t51 v228 v257 k0_hw35 k0_t62)
theorem k0_off2984_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2984 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t62
theorem k0_off2986_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2986 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t62
theorem k0_off2986_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2986 v1 k0_t51 v228 v257 k0_t62) S1x1x1x16x128.size (k0_off2986_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t62 (k0_off2986_inb v1 k0_t51 v228 v257 k0_hw35 k0_t62)
theorem k0_off2988_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2988 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t62
theorem k0_off2988_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2988 v1 k0_t51 v228 v257 k0_t62) S1x1x1x16x128.size (k0_off2988_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.2.2.1.1 k0_t62 (k0_off2988_inb v1 k0_t51 v228 v257 k0_hw35 k0_t62)
theorem k0_off2989_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2989 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.2.2.2.2.2.1.2.1 k0_t62
theorem k0_off2991_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2991 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.2.2.1.2.2.1 k0_t62
theorem k0_off2991_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2991 v1 k0_t51 v228 v257 k0_t62) S1x1x1x16x128.size (k0_off2991_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.2.2.1.2.2.2.1 k0_t62 (k0_off2991_inb v1 k0_t51 v228 v257 k0_hw35 k0_t62)
theorem k0_off2993_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2993 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.2.2.1.2.2.2.2.1 k0_t62
theorem k0_off2993_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2993 v1 k0_t51 v228 v257 k0_t62) S1x1x1x16x128.size (k0_off2993_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.2.2.1.2.2.2.2.2.1 k0_t62 (k0_off2993_inb v1 k0_t51 v228 v257 k0_hw35 k0_t62)
theorem k0_off2994_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2994 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.2.2.2.2.2.1.2.2.2.2.2.2.1 k0_t62
theorem k0_off2996_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2996 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.2.2.1.2.2.2.2.2.2.2.1 k0_t62
theorem k0_off2996_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2996 v1 k0_t51 v228 v257 k0_t62) S1x1x1x16x128.size (k0_off2996_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.2.2.1.2.2.2.2.2.2.2.2.1 k0_t62 (k0_off2996_inb v1 k0_t51 v228 v257 k0_hw35 k0_t62)
theorem k0_off2998_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2998 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.2.2.1.2.2.2.2.2.2.2.2.2.1 k0_t62
theorem k0_off2998_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off2998 v1 k0_t51 v228 v257 k0_t62) S1x1x1x16x128.size (k0_off2998_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.2.2.1.2.2.2.2.2.2.2.2.2.2.1 k0_t62 (k0_off2998_inb v1 k0_t51 v228 v257 k0_hw35 k0_t62)
theorem k0_off2999_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off2999 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.2.2.2.2.2.1.2.2.2.2.2.2.2.2.2.2.2.1 k0_t62
theorem k0_off3001_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off3001 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.2.2.1.2.2.2.2.2.2.2.2.2.2.2.2.1 k0_t62
theorem k0_off3001_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off3001 v1 k0_t51 v228 v257 k0_t62) S1x1x1x16x128.size (k0_off3001_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.2.2.1.2.2.2.2.2.2.2.2.2.2.2.2.2.1 k0_t62 (k0_off3001_inb v1 k0_t51 v228 v257 k0_hw35 k0_t62)
theorem k0_off3003_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off3003 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.2.2.1.2.2.2.2.2.2.2.2.2.2.2.2.2.2.1 k0_t62
theorem k0_off3003_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off3003 v1 k0_t51 v228 v257 k0_t62) S1x1x1x16x128.size (k0_off3003_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.2.2.1.2.2.2.2.2.2.2.2.2.2.2.2.2.2.2.1 k0_t62 (k0_off3003_inb v1 k0_t51 v228 v257 k0_hw35 k0_t62)
theorem k0_off3004_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off3004 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.2.2.2.2.2.1.2.2.2.2.2.2.2.2.2.2.2.2.2.2.2.2.1 k0_t62
theorem k0_off3006_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off3006 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.2.2.1.2.2.2.2.2.2.2.2.2.2.2.2.2.2.2.2.2.1 k0_t62
theorem k0_off3006_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off3006 v1 k0_t51 v228 v257 k0_t62) S1x1x1x16x128.size (k0_off3006_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.2.2.1.2.2.2.2.2.2.2.2.2.2.2.2.2.2.2.2.2.2.1 k0_t62 (k0_off3006_inb v1 k0_t51 v228 v257 k0_hw35 k0_t62)
theorem k0_off3008_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off3008 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t62
theorem k0_off3008_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off3008 v1 k0_t51 v228 v257 k0_t62) S1x1x1x16x128.size (k0_off3008_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t62 (k0_off3008_inb v1 k0_t51 v228 v257 k0_hw35 k0_t62)
theorem k0_off3009_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off3009 v1 k0_t51 v228 v257 k0_t62) a + S1x1x1x32x128.size a ≤ S2x2x8x1728x128.size a := fun v1 k0_t51 v228 v257 k0_hw35 k0_t62 => k0_hw35.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t62
theorem k0_off3011_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off3011 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t62
theorem k0_off3011_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off3011 v1 k0_t51 v228 v257 k0_t62) S1x1x1x16x128.size (k0_off3011_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t62 (k0_off3011_inb v1 k0_t51 v228 v257 k0_hw35 k0_t62)
theorem k0_off3013_inb : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), ∀ a, (k0_off3013 v1 k0_t51 v228 v257 k0_t62) a + S1x1x1x16x128.size a ≤ S2x2x108x128x128.size a := fun v1 k0_t51 v228 v257 k0_hw35 k0_t62 => k0_hw35.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t62
theorem k0_off3013_packedbf16 : ∀ (v1 : BitVec 32) (k0_t51 : Fin (k0_t51_loop v1).trips) (v228 : BitVec 32) (v257 : BitVec 32) (k0_hw35 : k0_chk35 v1 k0_t51 v228 v257) (k0_t62 : Fin (k0_t62_loop v228 v257).trips), (Rect.unit (s := S2x2x108x128x128) (k0_off3013 v1 k0_t51 v228 v257 k0_t62) S1x1x1x16x128.size (k0_off3013_inb v1 k0_t51 v228 v257 k0_hw35 k0_t62)).PackedRows (EltTy.packing .bf16) := fun v1 k0_t51 v228 v257 k0_hw35 k0_t62 => k0_hw35.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t62 (k0_off3013_inb v1 k0_t51 v228 v257 k0_hw35 k0_t62)
theorem k0_t63_ok : ∀ (v1 : BitVec 32) (k0_t51 : Fin (k0_t51_loop v1).trips) (v228 : BitVec 32) (v257 : BitVec 32) (k0_hw35 : k0_chk35 v1 k0_t51 v228 v257), (k0_t63_loop v228 v257).OK := fun v1 k0_t51 v228 v257 k0_hw35 => k0_hw35.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1
theorem k0_off3014_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3014 v228 v257 k0_t63) a + S1x1.size a ≤ S8x128.size a := fun v1 k0_t51 v228 v257 k0_hw35 k0_t63 => k0_hw35.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t63
theorem k0_off3015_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3015 v228) a + S1.size a ≤ S8.size a := fun v1 k0_t51 v228 v257 k0_hw35 k0_t63 => k0_hw35.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t63
theorem k0_mult25_dvd : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), 16 ∣ (k0_mult25 v228 v257 k0_t63).toNat := fun v1 k0_t51 v228 v257 k0_hw35 k0_t63 => k0_hw35.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t63
theorem k0_off3016_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3016 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t63
theorem k0_off3018_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3018 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t63
theorem k0_off3018_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3018 v1 k0_t51 v228 v257 k0_t63) S1x1x1x16x128.size (k0_off3018_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.1.1 k0_t63 (k0_off3018_inb v1 k0_t51 v228 v257 k0_hw35 k0_t63)
theorem k0_off3020_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3020 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.1.2.1 k0_t63
theorem k0_off3020_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3020 v1 k0_t51 v228 v257 k0_t63) S1x1x1x16x128.size (k0_off3020_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.1.2.2.1 k0_t63 (k0_off3020_inb v1 k0_t51 v228 v257 k0_hw35 k0_t63)
theorem k0_off3021_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3021 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.1.2.2.2.1 k0_t63
theorem k0_off3023_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3023 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.1.2.2.2.2.1 k0_t63
theorem k0_off3023_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3023 v1 k0_t51 v228 v257 k0_t63) S1x1x1x16x128.size (k0_off3023_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.1.2.2.2.2.2.1 k0_t63 (k0_off3023_inb v1 k0_t51 v228 v257 k0_hw35 k0_t63)
theorem k0_off3025_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3025 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.1.2.2.2.2.2.2.1 k0_t63
theorem k0_off3025_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3025 v1 k0_t51 v228 v257 k0_t63) S1x1x1x16x128.size (k0_off3025_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.1.2.2.2.2.2.2.2.1 k0_t63 (k0_off3025_inb v1 k0_t51 v228 v257 k0_hw35 k0_t63)
theorem k0_off3026_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3026 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.1.2.2.2.2.2.2.2.2.1 k0_t63
theorem k0_off3028_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3028 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.1.2.2.2.2.2.2.2.2.2.1 k0_t63
theorem k0_off3028_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3028 v1 k0_t51 v228 v257 k0_t63) S1x1x1x16x128.size (k0_off3028_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.1.2.2.2.2.2.2.2.2.2.2.1 k0_t63 (k0_off3028_inb v1 k0_t51 v228 v257 k0_hw35 k0_t63)
theorem k0_off3030_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3030 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.1.2.2.2.2.2.2.2.2.2.2.2.1 k0_t63
theorem k0_off3030_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3030 v1 k0_t51 v228 v257 k0_t63) S1x1x1x16x128.size (k0_off3030_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.1.2.2.2.2.2.2.2.2.2.2.2.2.1 k0_t63 (k0_off3030_inb v1 k0_t51 v228 v257 k0_hw35 k0_t63)
theorem k0_off3031_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3031 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.1.2.2.2.2.2.2.2.2.2.2.2.2.2.1 k0_t63
theorem k0_off3033_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3033 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.1.2.2.2.2.2.2.2.2.2.2.2.2.2.2.1 k0_t63
theorem k0_off3033_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3033 v1 k0_t51 v228 v257 k0_t63) S1x1x1x16x128.size (k0_off3033_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.1.2.2.2.2.2.2.2.2.2.2.2.2.2.2.2.1 k0_t63 (k0_off3033_inb v1 k0_t51 v228 v257 k0_hw35 k0_t63)
theorem k0_off3035_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3035 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.1.2.2.2.2.2.2.2.2.2.2.2.2.2.2.2.2.1 k0_t63
theorem k0_off3035_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3035 v1 k0_t51 v228 v257 k0_t63) S1x1x1x16x128.size (k0_off3035_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.1.2.2.2.2.2.2.2.2.2.2.2.2.2.2.2.2.2.1 k0_t63 (k0_off3035_inb v1 k0_t51 v228 v257 k0_hw35 k0_t63)
theorem k0_off3036_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3036 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t63
theorem k0_off3038_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3038 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t63
theorem k0_off3038_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3038 v1 k0_t51 v228 v257 k0_t63) S1x1x1x16x128.size (k0_off3038_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t63 (k0_off3038_inb v1 k0_t51 v228 v257 k0_hw35 k0_t63)
theorem k0_off3040_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3040 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t63
theorem k0_off3040_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3040 v1 k0_t51 v228 v257 k0_t63) S1x1x1x16x128.size (k0_off3040_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t63 (k0_off3040_inb v1 k0_t51 v228 v257 k0_hw35 k0_t63)
theorem k0_off3041_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3041 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t63
theorem k0_off3043_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3043 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t63
theorem k0_off3043_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3043 v1 k0_t51 v228 v257 k0_t63) S1x1x1x16x128.size (k0_off3043_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t63 (k0_off3043_inb v1 k0_t51 v228 v257 k0_hw35 k0_t63)
theorem k0_off3045_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3045 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t63
theorem k0_off3045_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3045 v1 k0_t51 v228 v257 k0_t63) S1x1x1x16x128.size (k0_off3045_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t63 (k0_off3045_inb v1 k0_t51 v228 v257 k0_hw35 k0_t63)
theorem k0_off3046_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3046 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t63
theorem k0_off3048_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3048 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t63
theorem k0_off3048_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3048 v1 k0_t51 v228 v257 k0_t63) S1x1x1x16x128.size (k0_off3048_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t63 (k0_off3048_inb v1 k0_t51 v228 v257 k0_hw35 k0_t63)
theorem k0_off3050_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3050 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t63
theorem k0_off3050_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3050 v1 k0_t51 v228 v257 k0_t63) S1x1x1x16x128.size (k0_off3050_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.1.1 k0_t63 (k0_off3050_inb v1 k0_t51 v228 v257 k0_hw35 k0_t63)
theorem k0_off3051_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3051 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.1.2.1 k0_t63
theorem k0_off3053_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3053 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.1.2.2.1 k0_t63
theorem k0_off3053_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3053 v1 k0_t51 v228 v257 k0_t63) S1x1x1x16x128.size (k0_off3053_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.1.2.2.2.1 k0_t63 (k0_off3053_inb v1 k0_t51 v228 v257 k0_hw35 k0_t63)
theorem k0_off3055_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3055 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.1.2.2.2.2.1 k0_t63
theorem k0_off3055_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3055 v1 k0_t51 v228 v257 k0_t63) S1x1x1x16x128.size (k0_off3055_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.1.2.2.2.2.2.1 k0_t63 (k0_off3055_inb v1 k0_t51 v228 v257 k0_hw35 k0_t63)
theorem k0_off3056_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3056 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.1.2.2.2.2.2.2.1 k0_t63
theorem k0_off3058_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3058 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.1.2.2.2.2.2.2.2.1 k0_t63
theorem k0_off3058_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3058 v1 k0_t51 v228 v257 k0_t63) S1x1x1x16x128.size (k0_off3058_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.1.2.2.2.2.2.2.2.2.1 k0_t63 (k0_off3058_inb v1 k0_t51 v228 v257 k0_hw35 k0_t63)
theorem k0_off3060_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3060 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.1.2.2.2.2.2.2.2.2.2.1 k0_t63
theorem k0_off3060_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3060 v1 k0_t51 v228 v257 k0_t63) S1x1x1x16x128.size (k0_off3060_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.1.2.2.2.2.2.2.2.2.2.2.1 k0_t63 (k0_off3060_inb v1 k0_t51 v228 v257 k0_hw35 k0_t63)
theorem k0_off3061_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3061 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.1.2.2.2.2.2.2.2.2.2.2.2.1 k0_t63
theorem k0_off3063_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3063 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.1.2.2.2.2.2.2.2.2.2.2.2.2.1 k0_t63
theorem k0_off3063_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3063 v1 k0_t51 v228 v257 k0_t63) S1x1x1x16x128.size (k0_off3063_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.1.2.2.2.2.2.2.2.2.2.2.2.2.2.1 k0_t63 (k0_off3063_inb v1 k0_t51 v228 v257 k0_hw35 k0_t63)
theorem k0_off3065_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3065 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.1.2.2.2.2.2.2.2.2.2.2.2.2.2.2.1 k0_t63
theorem k0_off3065_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3065 v1 k0_t51 v228 v257 k0_t63) S1x1x1x16x128.size (k0_off3065_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.1.2.2.2.2.2.2.2.2.2.2.2.2.2.2.2.1 k0_t63 (k0_off3065_inb v1 k0_t51 v228 v257 k0_hw35 k0_t63)
theorem k0_off3066_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3066 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.1.2.2.2.2.2.2.2.2.2.2.2.2.2.2.2.2.1 k0_t63
theorem k0_off3068_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3068 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t63
theorem k0_off3068_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3068 v1 k0_t51 v228 v257 k0_t63) S1x1x1x16x128.size (k0_off3068_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t63 (k0_off3068_inb v1 k0_t51 v228 v257 k0_hw35 k0_t63)
theorem k0_off3070_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3070 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t63
theorem k0_off3070_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3070 v1 k0_t51 v228 v257 k0_t63) S1x1x1x16x128.size (k0_off3070_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t63 (k0_off3070_inb v1 k0_t51 v228 v257 k0_hw35 k0_t63)
theorem k0_off3071_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3071 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t63
theorem k0_off3073_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3073 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t63
theorem k0_off3073_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3073 v1 k0_t51 v228 v257 k0_t63) S1x1x1x16x128.size (k0_off3073_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t63 (k0_off3073_inb v1 k0_t51 v228 v257 k0_hw35 k0_t63)
theorem k0_off3075_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3075 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t63
theorem k0_off3075_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3075 v1 k0_t51 v228 v257 k0_t63) S1x1x1x16x128.size (k0_off3075_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t63 (k0_off3075_inb v1 k0_t51 v228 v257 k0_hw35 k0_t63)
theorem k0_off3076_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3076 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t63
theorem k0_off3078_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3078 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t63
theorem k0_off3078_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3078 v1 k0_t51 v228 v257 k0_t63) S1x1x1x16x128.size (k0_off3078_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t63 (k0_off3078_inb v1 k0_t51 v228 v257 k0_hw35 k0_t63)
theorem k0_off3080_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3080 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t63
theorem k0_off3080_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3080 v1 k0_t51 v228 v257 k0_t63) S1x1x1x16x128.size (k0_off3080_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t63 (k0_off3080_inb v1 k0_t51 v228 v257 k0_hw35 k0_t63)
theorem k0_off3081_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3081 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t63
theorem k0_off3083_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3083 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.1 k0_t63
theorem k0_off3083_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3083 v1 k0_t51 v228 v257 k0_t63) S1x1x1x16x128.size (k0_off3083_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.2.1 k0_t63 (k0_off3083_inb v1 k0_t51 v228 v257 k0_hw35 k0_t63)
theorem k0_off3085_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3085 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.2.2.1 k0_t63
theorem k0_off3085_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3085 v1 k0_t51 v228 v257 k0_t63) S1x1x1x16x128.size (k0_off3085_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.2.2.2.1 k0_t63 (k0_off3085_inb v1 k0_t51 v228 v257 k0_hw35 k0_t63)
theorem k0_off3086_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3086 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.2.2.2.2.1 k0_t63
theorem k0_off3088_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3088 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.2.2.2.2.2.1 k0_t63
theorem k0_off3088_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3088 v1 k0_t51 v228 v257 k0_t63) S1x1x1x16x128.size (k0_off3088_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.2.2.2.2.2.2.1 k0_t63 (k0_off3088_inb v1 k0_t51 v228 v257 k0_hw35 k0_t63)
theorem k0_off3090_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3090 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.2.2.2.2.2.2.2.1 k0_t63
theorem k0_off3090_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3090 v1 k0_t51 v228 v257 k0_t63) S1x1x1x16x128.size (k0_off3090_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.2.2.2.2.2.2.2.2.1 k0_t63 (k0_off3090_inb v1 k0_t51 v228 v257 k0_hw35 k0_t63)
theorem k0_off3091_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3091 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.2.2.2.2.2.2.2.2.2.1 k0_t63
theorem k0_off3093_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3093 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.2.2.2.2.2.2.2.2.2.2.1 k0_t63
theorem k0_off3093_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3093 v1 k0_t51 v228 v257 k0_t63) S1x1x1x16x128.size (k0_off3093_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.2.2.2.2.2.2.2.2.2.2.2.1 k0_t63 (k0_off3093_inb v1 k0_t51 v228 v257 k0_hw35 k0_t63)
theorem k0_off3095_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3095 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.2.2.2.2.2.2.2.2.2.2.2.2.1 k0_t63
theorem k0_off3095_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3095 v1 k0_t51 v228 v257 k0_t63) S1x1x1x16x128.size (k0_off3095_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.2.2.2.2.2.2.2.2.2.2.2.2.2.1 k0_t63 (k0_off3095_inb v1 k0_t51 v228 v257 k0_hw35 k0_t63)
theorem k0_off3096_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3096 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.2.2.2.2.2.2.2.2.2.2.2.2.2.2.1 k0_t63
theorem k0_off3098_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3098 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.2.2.2.2.2.2.2.2.2.2.2.2.2.2.2.1 k0_t63
theorem k0_off3098_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3098 v1 k0_t51 v228 v257 k0_t63) S1x1x1x16x128.size (k0_off3098_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t63 (k0_off3098_inb v1 k0_t51 v228 v257 k0_hw35 k0_t63)
theorem k0_off3100_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3100 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t63
theorem k0_off3100_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3100 v1 k0_t51 v228 v257 k0_t63) S1x1x1x16x128.size (k0_off3100_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t63 (k0_off3100_inb v1 k0_t51 v228 v257 k0_hw35 k0_t63)
theorem k0_off3101_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3101 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t63
theorem k0_off3103_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3103 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t63
theorem k0_off3103_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3103 v1 k0_t51 v228 v257 k0_t63) S1x1x1x16x128.size (k0_off3103_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t63 (k0_off3103_inb v1 k0_t51 v228 v257 k0_hw35 k0_t63)
theorem k0_off3105_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3105 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t63
theorem k0_off3105_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3105 v1 k0_t51 v228 v257 k0_t63) S1x1x1x16x128.size (k0_off3105_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t63 (k0_off3105_inb v1 k0_t51 v228 v257 k0_hw35 k0_t63)
theorem k0_off3106_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3106 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t63
theorem k0_off3108_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3108 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t63
theorem k0_off3108_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3108 v1 k0_t51 v228 v257 k0_t63) S1x1x1x16x128.size (k0_off3108_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t63 (k0_off3108_inb v1 k0_t51 v228 v257 k0_hw35 k0_t63)
theorem k0_off3110_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3110 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t63
theorem k0_off3110_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3110 v1 k0_t51 v228 v257 k0_t63) S1x1x1x16x128.size (k0_off3110_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t63 (k0_off3110_inb v1 k0_t51 v228 v257 k0_hw35 k0_t63)
theorem k0_off3111_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3111 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t63
theorem k0_off3113_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3113 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t63
theorem k0_off3113_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3113 v1 k0_t51 v228 v257 k0_t63) S1x1x1x16x128.size (k0_off3113_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t63 (k0_off3113_inb v1 k0_t51 v228 v257 k0_hw35 k0_t63)
theorem k0_off3115_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3115 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.1 k0_t63
theorem k0_off3115_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3115 v1 k0_t51 v228 v257 k0_t63) S1x1x1x16x128.size (k0_off3115_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.2.1 k0_t63 (k0_off3115_inb v1 k0_t51 v228 v257 k0_hw35 k0_t63)
theorem k0_off3116_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3116 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.2.2.1 k0_t63
theorem k0_off3118_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3118 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.2.2.2.1 k0_t63
theorem k0_off3118_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3118 v1 k0_t51 v228 v257 k0_t63) S1x1x1x16x128.size (k0_off3118_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.2.2.2.2.1 k0_t63 (k0_off3118_inb v1 k0_t51 v228 v257 k0_hw35 k0_t63)
theorem k0_off3120_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3120 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.2.2.2.2.2.1 k0_t63
theorem k0_off3120_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3120 v1 k0_t51 v228 v257 k0_t63) S1x1x1x16x128.size (k0_off3120_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.2.2.2.2.2.2.1 k0_t63 (k0_off3120_inb v1 k0_t51 v228 v257 k0_hw35 k0_t63)
theorem k0_off3121_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3121 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.2.2.2.2.2.2.2.1 k0_t63
theorem k0_off3123_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3123 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.2.2.2.2.2.2.2.2.1 k0_t63
theorem k0_off3123_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3123 v1 k0_t51 v228 v257 k0_t63) S1x1x1x16x128.size (k0_off3123_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.2.2.2.2.2.2.2.2.2.1 k0_t63 (k0_off3123_inb v1 k0_t51 v228 v257 k0_hw35 k0_t63)
theorem k0_off3125_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3125 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.2.2.2.2.2.2.2.2.2.2.1 k0_t63
theorem k0_off3125_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3125 v1 k0_t51 v228 v257 k0_t63) S1x1x1x16x128.size (k0_off3125_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.2.2.2.2.2.2.2.2.2.2.2.1 k0_t63 (k0_off3125_inb v1 k0_t51 v228 v257 k0_hw35 k0_t63)
theorem k0_off3126_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3126 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.2.2.2.2.2.2.2.2.2.2.2.2.1 k0_t63
theorem k0_off3128_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3128 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.2.2.2.2.2.2.2.2.2.2.2.2.2.1 k0_t63
theorem k0_off3128_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3128 v1 k0_t51 v228 v257 k0_t63) S1x1x1x16x128.size (k0_off3128_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.2.2.2.2.2.2.2.2.2.2.2.2.2.2.1 k0_t63 (k0_off3128_inb v1 k0_t51 v228 v257 k0_hw35 k0_t63)
theorem k0_off3130_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3130 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t63
theorem k0_off3130_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3130 v1 k0_t51 v228 v257 k0_t63) S1x1x1x16x128.size (k0_off3130_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t63 (k0_off3130_inb v1 k0_t51 v228 v257 k0_hw35 k0_t63)
theorem k0_off3131_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3131 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t63
theorem k0_off3133_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3133 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t63
theorem k0_off3133_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3133 v1 k0_t51 v228 v257 k0_t63) S1x1x1x16x128.size (k0_off3133_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t63 (k0_off3133_inb v1 k0_t51 v228 v257 k0_hw35 k0_t63)
theorem k0_off3135_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3135 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t63
theorem k0_off3135_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3135 v1 k0_t51 v228 v257 k0_t63) S1x1x1x16x128.size (k0_off3135_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t63 (k0_off3135_inb v1 k0_t51 v228 v257 k0_hw35 k0_t63)
theorem k0_off3136_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3136 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t63
theorem k0_off3138_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3138 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t63
theorem k0_off3138_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3138 v1 k0_t51 v228 v257 k0_t63) S1x1x1x16x128.size (k0_off3138_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t63 (k0_off3138_inb v1 k0_t51 v228 v257 k0_hw35 k0_t63)
theorem k0_off3140_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3140 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t63
theorem k0_off3140_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3140 v1 k0_t51 v228 v257 k0_t63) S1x1x1x16x128.size (k0_off3140_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t63 (k0_off3140_inb v1 k0_t51 v228 v257 k0_hw35 k0_t63)
theorem k0_off3141_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3141 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t63
theorem k0_off3143_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3143 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t63
theorem k0_off3143_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3143 v1 k0_t51 v228 v257 k0_t63) S1x1x1x16x128.size (k0_off3143_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t63 (k0_off3143_inb v1 k0_t51 v228 v257 k0_hw35 k0_t63)
theorem k0_off3145_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3145 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t63
theorem k0_off3145_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3145 v1 k0_t51 v228 v257 k0_t63) S1x1x1x16x128.size (k0_off3145_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t63 (k0_off3145_inb v1 k0_t51 v228 v257 k0_hw35 k0_t63)
theorem k0_off3146_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3146 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.1 k0_t63
theorem k0_off3148_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3148 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.2.1 k0_t63
theorem k0_off3148_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3148 v1 k0_t51 v228 v257 k0_t63) S1x1x1x16x128.size (k0_off3148_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.2.2.1 k0_t63 (k0_off3148_inb v1 k0_t51 v228 v257 k0_hw35 k0_t63)
theorem k0_off3150_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3150 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.2.2.2.1 k0_t63
theorem k0_off3150_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3150 v1 k0_t51 v228 v257 k0_t63) S1x1x1x16x128.size (k0_off3150_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.2.2.2.2.1 k0_t63 (k0_off3150_inb v1 k0_t51 v228 v257 k0_hw35 k0_t63)
theorem k0_off3151_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3151 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.2.2.2.2.2.1 k0_t63
theorem k0_off3153_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3153 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.2.2.2.2.2.2.1 k0_t63
theorem k0_off3153_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3153 v1 k0_t51 v228 v257 k0_t63) S1x1x1x16x128.size (k0_off3153_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.2.2.2.2.2.2.2.1 k0_t63 (k0_off3153_inb v1 k0_t51 v228 v257 k0_hw35 k0_t63)
theorem k0_off3155_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3155 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.2.2.2.2.2.2.2.2.1 k0_t63
theorem k0_off3155_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3155 v1 k0_t51 v228 v257 k0_t63) S1x1x1x16x128.size (k0_off3155_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.2.2.2.2.2.2.2.2.2.1 k0_t63 (k0_off3155_inb v1 k0_t51 v228 v257 k0_hw35 k0_t63)
theorem k0_off3156_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3156 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.2.2.2.2.2.2.2.2.2.2.1 k0_t63
theorem k0_off3158_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3158 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.2.2.2.2.2.2.2.2.2.2.2.1 k0_t63
theorem k0_off3158_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3158 v1 k0_t51 v228 v257 k0_t63) S1x1x1x16x128.size (k0_off3158_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.2.2.2.2.2.2.2.2.2.2.2.2.1 k0_t63 (k0_off3158_inb v1 k0_t51 v228 v257 k0_hw35 k0_t63)
theorem k0_off3160_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3160 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.2.2.2.2.2.2.2.2.2.2.2.2.2.1 k0_t63
theorem k0_off3160_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3160 v1 k0_t51 v228 v257 k0_t63) S1x1x1x16x128.size (k0_off3160_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t63 (k0_off3160_inb v1 k0_t51 v228 v257 k0_hw35 k0_t63)
theorem k0_off3161_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3161 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t63
theorem k0_off3163_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3163 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t63
theorem k0_off3163_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3163 v1 k0_t51 v228 v257 k0_t63) S1x1x1x16x128.size (k0_off3163_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t63 (k0_off3163_inb v1 k0_t51 v228 v257 k0_hw35 k0_t63)
theorem k0_off3165_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3165 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t63
theorem k0_off3165_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3165 v1 k0_t51 v228 v257 k0_t63) S1x1x1x16x128.size (k0_off3165_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t63 (k0_off3165_inb v1 k0_t51 v228 v257 k0_hw35 k0_t63)
theorem k0_off3166_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3166 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t63
theorem k0_off3168_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3168 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t63
theorem k0_off3168_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3168 v1 k0_t51 v228 v257 k0_t63) S1x1x1x16x128.size (k0_off3168_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t63 (k0_off3168_inb v1 k0_t51 v228 v257 k0_hw35 k0_t63)
theorem k0_off3170_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3170 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t63
theorem k0_off3170_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3170 v1 k0_t51 v228 v257 k0_t63) S1x1x1x16x128.size (k0_off3170_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t63 (k0_off3170_inb v1 k0_t51 v228 v257 k0_hw35 k0_t63)
theorem k0_off3171_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3171 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t63
theorem k0_off3173_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3173 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t63
theorem k0_off3173_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3173 v1 k0_t51 v228 v257 k0_t63) S1x1x1x16x128.size (k0_off3173_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t63 (k0_off3173_inb v1 k0_t51 v228 v257 k0_hw35 k0_t63)
theorem k0_off3175_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3175 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t63
theorem k0_off3175_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3175 v1 k0_t51 v228 v257 k0_t63) S1x1x1x16x128.size (k0_off3175_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t63 (k0_off3175_inb v1 k0_t51 v228 v257 k0_hw35 k0_t63)
theorem k0_off3176_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3176 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t63
theorem k0_off3178_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3178 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t63
theorem k0_off3178_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3178 v1 k0_t51 v228 v257 k0_t63) S1x1x1x16x128.size (k0_off3178_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.1 k0_t63 (k0_off3178_inb v1 k0_t51 v228 v257 k0_hw35 k0_t63)
theorem k0_off3180_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3180 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.2.1 k0_t63
theorem k0_off3180_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3180 v1 k0_t51 v228 v257 k0_t63) S1x1x1x16x128.size (k0_off3180_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.2.2.1 k0_t63 (k0_off3180_inb v1 k0_t51 v228 v257 k0_hw35 k0_t63)
theorem k0_off3181_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3181 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.2.2.2.1 k0_t63
theorem k0_off3183_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3183 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.2.2.2.2.1 k0_t63
theorem k0_off3183_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3183 v1 k0_t51 v228 v257 k0_t63) S1x1x1x16x128.size (k0_off3183_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.2.2.2.2.2.1 k0_t63 (k0_off3183_inb v1 k0_t51 v228 v257 k0_hw35 k0_t63)
theorem k0_off3185_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3185 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.2.2.2.2.2.2.1 k0_t63
theorem k0_off3185_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3185 v1 k0_t51 v228 v257 k0_t63) S1x1x1x16x128.size (k0_off3185_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.2.2.2.2.2.2.2.1 k0_t63 (k0_off3185_inb v1 k0_t51 v228 v257 k0_hw35 k0_t63)
theorem k0_off3186_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3186 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.2.2.2.2.2.2.2.2.1 k0_t63
theorem k0_off3188_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3188 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.2.2.2.2.2.2.2.2.2.1 k0_t63
theorem k0_off3188_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3188 v1 k0_t51 v228 v257 k0_t63) S1x1x1x16x128.size (k0_off3188_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.2.2.2.2.2.2.2.2.2.2.1 k0_t63 (k0_off3188_inb v1 k0_t51 v228 v257 k0_hw35 k0_t63)
theorem k0_off3190_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3190 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.2.2.2.2.2.2.2.2.2.2.2.1 k0_t63
theorem k0_off3190_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3190 v1 k0_t51 v228 v257 k0_t63) S1x1x1x16x128.size (k0_off3190_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.2.2.2.2.2.2.2.2.2.2.2.2.1 k0_t63 (k0_off3190_inb v1 k0_t51 v228 v257 k0_hw35 k0_t63)
theorem k0_off3191_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3191 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t63
theorem k0_off3193_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3193 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t63
theorem k0_off3193_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3193 v1 k0_t51 v228 v257 k0_t63) S1x1x1x16x128.size (k0_off3193_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t63 (k0_off3193_inb v1 k0_t51 v228 v257 k0_hw35 k0_t63)
theorem k0_off3195_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3195 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t63
theorem k0_off3195_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3195 v1 k0_t51 v228 v257 k0_t63) S1x1x1x16x128.size (k0_off3195_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t63 (k0_off3195_inb v1 k0_t51 v228 v257 k0_hw35 k0_t63)
theorem k0_off3196_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3196 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t63
theorem k0_off3198_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3198 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t63
theorem k0_off3198_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3198 v1 k0_t51 v228 v257 k0_t63) S1x1x1x16x128.size (k0_off3198_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t63 (k0_off3198_inb v1 k0_t51 v228 v257 k0_hw35 k0_t63)
theorem k0_off3200_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3200 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t63
theorem k0_off3200_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3200 v1 k0_t51 v228 v257 k0_t63) S1x1x1x16x128.size (k0_off3200_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t63 (k0_off3200_inb v1 k0_t51 v228 v257 k0_hw35 k0_t63)
theorem k0_off3201_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3201 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t63
theorem k0_off3203_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3203 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t63
theorem k0_off3203_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3203 v1 k0_t51 v228 v257 k0_t63) S1x1x1x16x128.size (k0_off3203_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t63 (k0_off3203_inb v1 k0_t51 v228 v257 k0_hw35 k0_t63)
theorem k0_off3205_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3205 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t63
theorem k0_off3205_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3205 v1 k0_t51 v228 v257 k0_t63) S1x1x1x16x128.size (k0_off3205_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t63 (k0_off3205_inb v1 k0_t51 v228 v257 k0_hw35 k0_t63)
theorem k0_off3206_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3206 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t63
theorem k0_off3208_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3208 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t63
theorem k0_off3208_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3208 v1 k0_t51 v228 v257 k0_t63) S1x1x1x16x128.size (k0_off3208_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t63 (k0_off3208_inb v1 k0_t51 v228 v257 k0_hw35 k0_t63)
theorem k0_off3210_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3210 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t63
theorem k0_off3210_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3210 v1 k0_t51 v228 v257 k0_t63) S1x1x1x16x128.size (k0_off3210_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.1 k0_t63 (k0_off3210_inb v1 k0_t51 v228 v257 k0_hw35 k0_t63)
theorem k0_off3211_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3211 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.2.1 k0_t63
theorem k0_off3213_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3213 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.2.2.1 k0_t63
theorem k0_off3213_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3213 v1 k0_t51 v228 v257 k0_t63) S1x1x1x16x128.size (k0_off3213_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.2.2.2.1 k0_t63 (k0_off3213_inb v1 k0_t51 v228 v257 k0_hw35 k0_t63)
theorem k0_off3215_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3215 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.2.2.2.2.1 k0_t63
theorem k0_off3215_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3215 v1 k0_t51 v228 v257 k0_t63) S1x1x1x16x128.size (k0_off3215_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.2.2.2.2.2.1 k0_t63 (k0_off3215_inb v1 k0_t51 v228 v257 k0_hw35 k0_t63)
theorem k0_off3216_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3216 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.2.2.2.2.2.2.1 k0_t63
theorem k0_off3218_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3218 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.2.2.2.2.2.2.2.1 k0_t63
theorem k0_off3218_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3218 v1 k0_t51 v228 v257 k0_t63) S1x1x1x16x128.size (k0_off3218_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.2.2.2.2.2.2.2.2.1 k0_t63 (k0_off3218_inb v1 k0_t51 v228 v257 k0_hw35 k0_t63)
theorem k0_off3220_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3220 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.2.2.2.2.2.2.2.2.2.1 k0_t63
theorem k0_off3220_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3220 v1 k0_t51 v228 v257 k0_t63) S1x1x1x16x128.size (k0_off3220_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.2.2.2.2.2.2.2.2.2.2.1 k0_t63 (k0_off3220_inb v1 k0_t51 v228 v257 k0_hw35 k0_t63)
theorem k0_off3221_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3221 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.2.2.2.2.2.2.2.2.2.2.2.1 k0_t63
theorem k0_off3223_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3223 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t63
theorem k0_off3223_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3223 v1 k0_t51 v228 v257 k0_t63) S1x1x1x16x128.size (k0_off3223_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t63 (k0_off3223_inb v1 k0_t51 v228 v257 k0_hw35 k0_t63)
theorem k0_off3225_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3225 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t63
theorem k0_off3225_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3225 v1 k0_t51 v228 v257 k0_t63) S1x1x1x16x128.size (k0_off3225_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t63 (k0_off3225_inb v1 k0_t51 v228 v257 k0_hw35 k0_t63)
theorem k0_off3226_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3226 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t63
theorem k0_off3228_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3228 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t63
theorem k0_off3228_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3228 v1 k0_t51 v228 v257 k0_t63) S1x1x1x16x128.size (k0_off3228_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t63 (k0_off3228_inb v1 k0_t51 v228 v257 k0_hw35 k0_t63)
theorem k0_off3230_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3230 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t63
theorem k0_off3230_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3230 v1 k0_t51 v228 v257 k0_t63) S1x1x1x16x128.size (k0_off3230_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t63 (k0_off3230_inb v1 k0_t51 v228 v257 k0_hw35 k0_t63)
theorem k0_off3231_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3231 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t63
theorem k0_off3233_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3233 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t63
theorem k0_off3233_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3233 v1 k0_t51 v228 v257 k0_t63) S1x1x1x16x128.size (k0_off3233_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t63 (k0_off3233_inb v1 k0_t51 v228 v257 k0_hw35 k0_t63)
theorem k0_off3235_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3235 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t63
theorem k0_off3235_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3235 v1 k0_t51 v228 v257 k0_t63) S1x1x1x16x128.size (k0_off3235_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t63 (k0_off3235_inb v1 k0_t51 v228 v257 k0_hw35 k0_t63)
theorem k0_off3236_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3236 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t63
theorem k0_off3238_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3238 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t63
theorem k0_off3238_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3238 v1 k0_t51 v228 v257 k0_t63) S1x1x1x16x128.size (k0_off3238_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t63 (k0_off3238_inb v1 k0_t51 v228 v257 k0_hw35 k0_t63)
theorem k0_off3240_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3240 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t63
theorem k0_off3240_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3240 v1 k0_t51 v228 v257 k0_t63) S1x1x1x16x128.size (k0_off3240_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t63 (k0_off3240_inb v1 k0_t51 v228 v257 k0_hw35 k0_t63)
theorem k0_off3241_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3241 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t63
theorem k0_off3243_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3243 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.1 k0_t63
theorem k0_off3243_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3243 v1 k0_t51 v228 v257 k0_t63) S1x1x1x16x128.size (k0_off3243_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.2.1 k0_t63 (k0_off3243_inb v1 k0_t51 v228 v257 k0_hw35 k0_t63)
theorem k0_off3245_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3245 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.2.2.1 k0_t63
theorem k0_off3245_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3245 v1 k0_t51 v228 v257 k0_t63) S1x1x1x16x128.size (k0_off3245_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.2.2.2.1 k0_t63 (k0_off3245_inb v1 k0_t51 v228 v257 k0_hw35 k0_t63)
theorem k0_off3246_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3246 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.2.2.2.2.1 k0_t63
theorem k0_off3248_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3248 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.2.2.2.2.2.1 k0_t63
theorem k0_off3248_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3248 v1 k0_t51 v228 v257 k0_t63) S1x1x1x16x128.size (k0_off3248_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.2.2.2.2.2.2.1 k0_t63 (k0_off3248_inb v1 k0_t51 v228 v257 k0_hw35 k0_t63)
theorem k0_off3250_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3250 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.2.2.2.2.2.2.2.1 k0_t63
theorem k0_off3250_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3250 v1 k0_t51 v228 v257 k0_t63) S1x1x1x16x128.size (k0_off3250_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.2.2.2.2.2.2.2.2.1 k0_t63 (k0_off3250_inb v1 k0_t51 v228 v257 k0_hw35 k0_t63)
theorem k0_off3251_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3251 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.2.2.2.2.2.2.2.2.2.1 k0_t63
theorem k0_off3253_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3253 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.2.2.2.2.2.2.2.2.2.2.1 k0_t63
theorem k0_off3253_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3253 v1 k0_t51 v228 v257 k0_t63) S1x1x1x16x128.size (k0_off3253_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t63 (k0_off3253_inb v1 k0_t51 v228 v257 k0_hw35 k0_t63)
theorem k0_off3255_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3255 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t63
theorem k0_off3255_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3255 v1 k0_t51 v228 v257 k0_t63) S1x1x1x16x128.size (k0_off3255_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t63 (k0_off3255_inb v1 k0_t51 v228 v257 k0_hw35 k0_t63)
theorem k0_off3256_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3256 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t63
theorem k0_off3258_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3258 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t63
theorem k0_off3258_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3258 v1 k0_t51 v228 v257 k0_t63) S1x1x1x16x128.size (k0_off3258_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t63 (k0_off3258_inb v1 k0_t51 v228 v257 k0_hw35 k0_t63)
theorem k0_off3260_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3260 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t63
theorem k0_off3260_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3260 v1 k0_t51 v228 v257 k0_t63) S1x1x1x16x128.size (k0_off3260_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t63 (k0_off3260_inb v1 k0_t51 v228 v257 k0_hw35 k0_t63)
theorem k0_off3261_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3261 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t63
theorem k0_off3263_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3263 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t63
theorem k0_off3263_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3263 v1 k0_t51 v228 v257 k0_t63) S1x1x1x16x128.size (k0_off3263_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t63 (k0_off3263_inb v1 k0_t51 v228 v257 k0_hw35 k0_t63)
theorem k0_off3265_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3265 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t63
theorem k0_off3265_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3265 v1 k0_t51 v228 v257 k0_t63) S1x1x1x16x128.size (k0_off3265_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t63 (k0_off3265_inb v1 k0_t51 v228 v257 k0_hw35 k0_t63)
theorem k0_off3266_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3266 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t63
theorem k0_off3268_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3268 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t63
theorem k0_off3268_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3268 v1 k0_t51 v228 v257 k0_t63) S1x1x1x16x128.size (k0_off3268_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t63 (k0_off3268_inb v1 k0_t51 v228 v257 k0_hw35 k0_t63)
theorem k0_off3270_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3270 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t63
theorem k0_off3270_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3270 v1 k0_t51 v228 v257 k0_t63) S1x1x1x16x128.size (k0_off3270_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t63 (k0_off3270_inb v1 k0_t51 v228 v257 k0_hw35 k0_t63)
theorem k0_off3271_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3271 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t63
theorem k0_off3273_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3273 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t63
theorem k0_off3273_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3273 v1 k0_t51 v228 v257 k0_t63) S1x1x1x16x128.size (k0_off3273_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t63 (k0_off3273_inb v1 k0_t51 v228 v257 k0_hw35 k0_t63)
theorem k0_off3275_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3275 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.2.1.1 k0_t63
theorem k0_off3275_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3275 v1 k0_t51 v228 v257 k0_t63) S1x1x1x16x128.size (k0_off3275_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.2.1.2.1 k0_t63 (k0_off3275_inb v1 k0_t51 v228 v257 k0_hw35 k0_t63)
theorem k0_off3276_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3276 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.2.1.2.2.1 k0_t63
theorem k0_off3278_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3278 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.2.1.2.2.2.1 k0_t63
theorem k0_off3278_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3278 v1 k0_t51 v228 v257 k0_t63) S1x1x1x16x128.size (k0_off3278_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.2.1.2.2.2.2.1 k0_t63 (k0_off3278_inb v1 k0_t51 v228 v257 k0_hw35 k0_t63)
theorem k0_off3280_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3280 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.2.1.2.2.2.2.2.1 k0_t63
theorem k0_off3280_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3280 v1 k0_t51 v228 v257 k0_t63) S1x1x1x16x128.size (k0_off3280_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.2.1.2.2.2.2.2.2.1 k0_t63 (k0_off3280_inb v1 k0_t51 v228 v257 k0_hw35 k0_t63)
theorem k0_off3281_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3281 v1 k0_t51 v228 v257 k0_t63) a + S1x1x1x32x128.size a ≤ S2x2x8x1728x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.2.1.2.2.2.2.2.2.2.1 k0_t63
theorem k0_off3283_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3283 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.2.1.2.2.2.2.2.2.2.2.1 k0_t63
theorem k0_off3283_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3283 v1 k0_t51 v228 v257 k0_t63) S1x1x1x16x128.size (k0_off3283_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.2.1.2.2.2.2.2.2.2.2.2.1 k0_t63 (k0_off3283_inb v1 k0_t51 v228 v257 k0_hw35 k0_t63)
theorem k0_off3285_inb : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), ∀ a, (k0_off3285 v1 k0_t51 v228 v257 k0_t63) a + S1x1x1x16x128.size a ≤ S2x2x108x128x128.size a := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t63
theorem k0_off3285_packedbf16 : ∀ (v1 : BitVec 32) (k0_t51 : Fin (k0_t51_loop v1).trips) (v228 : BitVec 32) (v257 : BitVec 32) (k0_hw35 : k0_chk35 v1 k0_t51 v228 v257) (k0_t63 : Fin (k0_t63_loop v228 v257).trips), (Rect.unit (s := S2x2x108x128x128) (k0_off3285 v1 k0_t51 v228 v257 k0_t63) S1x1x1x16x128.size (k0_off3285_inb v1 k0_t51 v228 v257 k0_hw35 k0_t63)).PackedRows (EltTy.packing .bf16) := fun v1 k0_t51 v228 v257 k0_hw35 k0_t63 => k0_hw35.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t63 (k0_off3285_inb v1 k0_t51 v228 v257 k0_hw35 k0_t63)
theorem k0_t64_ok : ∀ (v1 : BitVec 32) (k0_t51 : Fin (k0_t51_loop v1).trips) (v228 : BitVec 32) (v257 : BitVec 32) (k0_hw35 : k0_chk35 v1 k0_t51 v228 v257), (k0_t64_loop v228 v257).OK := fun v1 k0_t51 v228 v257 k0_hw35 => k0_hw35.2.2.2.2.2.2.2.2.2.2.2.2.2.2.2.2.2.2.2.2.2.2.2.2.2.2.2.2.2.2.2.2.2.2.2.2.2.2.2.2.2.2.2.2.2.2.2.2.1.2.2.2.2.2.2.2.2.2.2.2.2.1
theorem k0_mult26_dvd : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), 16 ∣ (k0_mult26 v228 v257 k0_t64).toNat := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t64
theorem k0_off3286_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3286 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t64
theorem k0_off3286_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3286 v1 k0_t51 v228 v257 k0_t64) S1x1x1x16x128.size (k0_off3286_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t64 (k0_off3286_inb v1 k0_t51 v228 v257 k0_hw35 k0_t64)
theorem k0_off3287_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3287 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t64
theorem k0_off3287_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3287 v1 k0_t51 v228 v257 k0_t64) S1x1x1x16x128.size (k0_off3287_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t64 (k0_off3287_inb v1 k0_t51 v228 v257 k0_hw35 k0_t64)
theorem k0_off3288_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3288 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t64
theorem k0_off3288_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3288 v1 k0_t51 v228 v257 k0_t64) S1x1x1x16x128.size (k0_off3288_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t64 (k0_off3288_inb v1 k0_t51 v228 v257 k0_hw35 k0_t64)
theorem k0_off3289_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3289 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t64
theorem k0_off3289_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3289 v1 k0_t51 v228 v257 k0_t64) S1x1x1x16x128.size (k0_off3289_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t64 (k0_off3289_inb v1 k0_t51 v228 v257 k0_hw35 k0_t64)
theorem k0_off3290_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3290 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t64
theorem k0_off3290_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3290 v1 k0_t51 v228 v257 k0_t64) S1x1x1x16x128.size (k0_off3290_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t64 (k0_off3290_inb v1 k0_t51 v228 v257 k0_hw35 k0_t64)
theorem k0_off3291_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3291 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t64
theorem k0_off3291_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3291 v1 k0_t51 v228 v257 k0_t64) S1x1x1x16x128.size (k0_off3291_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t64 (k0_off3291_inb v1 k0_t51 v228 v257 k0_hw35 k0_t64)
theorem k0_off3292_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3292 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t64
theorem k0_off3292_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3292 v1 k0_t51 v228 v257 k0_t64) S1x1x1x16x128.size (k0_off3292_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t64 (k0_off3292_inb v1 k0_t51 v228 v257 k0_hw35 k0_t64)
theorem k0_off3293_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3293 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t64
theorem k0_off3293_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3293 v1 k0_t51 v228 v257 k0_t64) S1x1x1x16x128.size (k0_off3293_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t64 (k0_off3293_inb v1 k0_t51 v228 v257 k0_hw35 k0_t64)
theorem k0_off3294_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3294 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t64
theorem k0_off3294_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3294 v1 k0_t51 v228 v257 k0_t64) S1x1x1x16x128.size (k0_off3294_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t64 (k0_off3294_inb v1 k0_t51 v228 v257 k0_hw35 k0_t64)
theorem k0_off3295_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3295 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.1 k0_t64
theorem k0_off3295_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3295 v1 k0_t51 v228 v257 k0_t64) S1x1x1x16x128.size (k0_off3295_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.2.1 k0_t64 (k0_off3295_inb v1 k0_t51 v228 v257 k0_hw35 k0_t64)
theorem k0_off3296_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3296 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.2.2.1 k0_t64
theorem k0_off3296_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3296 v1 k0_t51 v228 v257 k0_t64) S1x1x1x16x128.size (k0_off3296_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.2.2.2.1 k0_t64 (k0_off3296_inb v1 k0_t51 v228 v257 k0_hw35 k0_t64)
theorem k0_off3297_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3297 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.2.2.2.2.1 k0_t64
theorem k0_off3297_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3297 v1 k0_t51 v228 v257 k0_t64) S1x1x1x16x128.size (k0_off3297_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.2.2.2.2.2.1 k0_t64 (k0_off3297_inb v1 k0_t51 v228 v257 k0_hw35 k0_t64)
theorem k0_off3298_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3298 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.2.2.2.2.2.2.1 k0_t64
theorem k0_off3298_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3298 v1 k0_t51 v228 v257 k0_t64) S1x1x1x16x128.size (k0_off3298_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.2.2.2.2.2.2.2.1 k0_t64 (k0_off3298_inb v1 k0_t51 v228 v257 k0_hw35 k0_t64)
theorem k0_off3299_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3299 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.2.2.2.2.2.2.2.2.1 k0_t64
theorem k0_off3299_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3299 v1 k0_t51 v228 v257 k0_t64) S1x1x1x16x128.size (k0_off3299_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t64 (k0_off3299_inb v1 k0_t51 v228 v257 k0_hw35 k0_t64)
theorem k0_off3300_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3300 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t64
theorem k0_off3300_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3300 v1 k0_t51 v228 v257 k0_t64) S1x1x1x16x128.size (k0_off3300_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t64 (k0_off3300_inb v1 k0_t51 v228 v257 k0_hw35 k0_t64)
theorem k0_off3301_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3301 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t64
theorem k0_off3301_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3301 v1 k0_t51 v228 v257 k0_t64) S1x1x1x16x128.size (k0_off3301_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t64 (k0_off3301_inb v1 k0_t51 v228 v257 k0_hw35 k0_t64)
theorem k0_off3302_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3302 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t64
theorem k0_off3302_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3302 v1 k0_t51 v228 v257 k0_t64) S1x1x1x16x128.size (k0_off3302_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t64 (k0_off3302_inb v1 k0_t51 v228 v257 k0_hw35 k0_t64)
theorem k0_off3303_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3303 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t64
theorem k0_off3303_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3303 v1 k0_t51 v228 v257 k0_t64) S1x1x1x16x128.size (k0_off3303_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t64 (k0_off3303_inb v1 k0_t51 v228 v257 k0_hw35 k0_t64)
theorem k0_off3304_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3304 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t64
theorem k0_off3304_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3304 v1 k0_t51 v228 v257 k0_t64) S1x1x1x16x128.size (k0_off3304_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t64 (k0_off3304_inb v1 k0_t51 v228 v257 k0_hw35 k0_t64)
theorem k0_off3305_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3305 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t64
theorem k0_off3305_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3305 v1 k0_t51 v228 v257 k0_t64) S1x1x1x16x128.size (k0_off3305_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t64 (k0_off3305_inb v1 k0_t51 v228 v257 k0_hw35 k0_t64)
theorem k0_off3306_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3306 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t64
theorem k0_off3306_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3306 v1 k0_t51 v228 v257 k0_t64) S1x1x1x16x128.size (k0_off3306_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t64 (k0_off3306_inb v1 k0_t51 v228 v257 k0_hw35 k0_t64)
theorem k0_off3307_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3307 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t64
theorem k0_off3307_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3307 v1 k0_t51 v228 v257 k0_t64) S1x1x1x16x128.size (k0_off3307_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t64 (k0_off3307_inb v1 k0_t51 v228 v257 k0_hw35 k0_t64)
theorem k0_off3308_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3308 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t64
theorem k0_off3308_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3308 v1 k0_t51 v228 v257 k0_t64) S1x1x1x16x128.size (k0_off3308_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t64 (k0_off3308_inb v1 k0_t51 v228 v257 k0_hw35 k0_t64)
theorem k0_off3309_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3309 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t64
theorem k0_off3309_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3309 v1 k0_t51 v228 v257 k0_t64) S1x1x1x16x128.size (k0_off3309_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t64 (k0_off3309_inb v1 k0_t51 v228 v257 k0_hw35 k0_t64)
theorem k0_off3310_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3310 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t64
theorem k0_off3310_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3310 v1 k0_t51 v228 v257 k0_t64) S1x1x1x16x128.size (k0_off3310_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t64 (k0_off3310_inb v1 k0_t51 v228 v257 k0_hw35 k0_t64)
theorem k0_off3311_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3311 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.1 k0_t64
theorem k0_off3311_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3311 v1 k0_t51 v228 v257 k0_t64) S1x1x1x16x128.size (k0_off3311_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.2.1 k0_t64 (k0_off3311_inb v1 k0_t51 v228 v257 k0_hw35 k0_t64)
theorem k0_off3312_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3312 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.2.2.1 k0_t64
theorem k0_off3312_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3312 v1 k0_t51 v228 v257 k0_t64) S1x1x1x16x128.size (k0_off3312_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.2.2.2.1 k0_t64 (k0_off3312_inb v1 k0_t51 v228 v257 k0_hw35 k0_t64)
theorem k0_off3313_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3313 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.2.2.2.2.1 k0_t64
theorem k0_off3313_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3313 v1 k0_t51 v228 v257 k0_t64) S1x1x1x16x128.size (k0_off3313_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.2.2.2.2.2.1 k0_t64 (k0_off3313_inb v1 k0_t51 v228 v257 k0_hw35 k0_t64)
theorem k0_off3314_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3314 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.2.2.2.2.2.2.1 k0_t64
theorem k0_off3314_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3314 v1 k0_t51 v228 v257 k0_t64) S1x1x1x16x128.size (k0_off3314_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.2.2.2.2.2.2.2.1 k0_t64 (k0_off3314_inb v1 k0_t51 v228 v257 k0_hw35 k0_t64)
theorem k0_off3315_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3315 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t64
theorem k0_off3315_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3315 v1 k0_t51 v228 v257 k0_t64) S1x1x1x16x128.size (k0_off3315_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t64 (k0_off3315_inb v1 k0_t51 v228 v257 k0_hw35 k0_t64)
theorem k0_off3316_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3316 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t64
theorem k0_off3316_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3316 v1 k0_t51 v228 v257 k0_t64) S1x1x1x16x128.size (k0_off3316_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t64 (k0_off3316_inb v1 k0_t51 v228 v257 k0_hw35 k0_t64)
theorem k0_off3317_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3317 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t64
theorem k0_off3317_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3317 v1 k0_t51 v228 v257 k0_t64) S1x1x1x16x128.size (k0_off3317_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t64 (k0_off3317_inb v1 k0_t51 v228 v257 k0_hw35 k0_t64)
theorem k0_off3318_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3318 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t64
theorem k0_off3318_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3318 v1 k0_t51 v228 v257 k0_t64) S1x1x1x16x128.size (k0_off3318_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t64 (k0_off3318_inb v1 k0_t51 v228 v257 k0_hw35 k0_t64)
theorem k0_off3319_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3319 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t64
theorem k0_off3319_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3319 v1 k0_t51 v228 v257 k0_t64) S1x1x1x16x128.size (k0_off3319_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t64 (k0_off3319_inb v1 k0_t51 v228 v257 k0_hw35 k0_t64)
theorem k0_off3320_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3320 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t64
theorem k0_off3320_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3320 v1 k0_t51 v228 v257 k0_t64) S1x1x1x16x128.size (k0_off3320_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t64 (k0_off3320_inb v1 k0_t51 v228 v257 k0_hw35 k0_t64)
theorem k0_off3321_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3321 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t64
theorem k0_off3321_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3321 v1 k0_t51 v228 v257 k0_t64) S1x1x1x16x128.size (k0_off3321_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t64 (k0_off3321_inb v1 k0_t51 v228 v257 k0_hw35 k0_t64)
theorem k0_off3322_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3322 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t64
theorem k0_off3322_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3322 v1 k0_t51 v228 v257 k0_t64) S1x1x1x16x128.size (k0_off3322_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t64 (k0_off3322_inb v1 k0_t51 v228 v257 k0_hw35 k0_t64)
theorem k0_off3323_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3323 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t64
theorem k0_off3323_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3323 v1 k0_t51 v228 v257 k0_t64) S1x1x1x16x128.size (k0_off3323_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t64 (k0_off3323_inb v1 k0_t51 v228 v257 k0_hw35 k0_t64)
theorem k0_off3324_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3324 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t64
theorem k0_off3324_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3324 v1 k0_t51 v228 v257 k0_t64) S1x1x1x16x128.size (k0_off3324_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t64 (k0_off3324_inb v1 k0_t51 v228 v257 k0_hw35 k0_t64)
theorem k0_off3325_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3325 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t64
theorem k0_off3325_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3325 v1 k0_t51 v228 v257 k0_t64) S1x1x1x16x128.size (k0_off3325_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t64 (k0_off3325_inb v1 k0_t51 v228 v257 k0_hw35 k0_t64)
theorem k0_off3326_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3326 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t64
theorem k0_off3326_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3326 v1 k0_t51 v228 v257 k0_t64) S1x1x1x16x128.size (k0_off3326_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t64 (k0_off3326_inb v1 k0_t51 v228 v257 k0_hw35 k0_t64)
theorem k0_off3327_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3327 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.1 k0_t64
theorem k0_off3327_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3327 v1 k0_t51 v228 v257 k0_t64) S1x1x1x16x128.size (k0_off3327_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.2.1 k0_t64 (k0_off3327_inb v1 k0_t51 v228 v257 k0_hw35 k0_t64)
theorem k0_off3328_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3328 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.2.2.1 k0_t64
theorem k0_off3328_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3328 v1 k0_t51 v228 v257 k0_t64) S1x1x1x16x128.size (k0_off3328_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.2.2.2.1 k0_t64 (k0_off3328_inb v1 k0_t51 v228 v257 k0_hw35 k0_t64)
theorem k0_off3329_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3329 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.2.2.2.2.1 k0_t64
theorem k0_off3329_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3329 v1 k0_t51 v228 v257 k0_t64) S1x1x1x16x128.size (k0_off3329_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.2.2.2.2.2.1 k0_t64 (k0_off3329_inb v1 k0_t51 v228 v257 k0_hw35 k0_t64)
theorem k0_off3330_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3330 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.2.2.2.2.2.2.1 k0_t64
theorem k0_off3330_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3330 v1 k0_t51 v228 v257 k0_t64) S1x1x1x16x128.size (k0_off3330_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t64 (k0_off3330_inb v1 k0_t51 v228 v257 k0_hw35 k0_t64)
theorem k0_off3331_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3331 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t64
theorem k0_off3331_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3331 v1 k0_t51 v228 v257 k0_t64) S1x1x1x16x128.size (k0_off3331_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t64 (k0_off3331_inb v1 k0_t51 v228 v257 k0_hw35 k0_t64)
theorem k0_off3332_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3332 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t64
theorem k0_off3332_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3332 v1 k0_t51 v228 v257 k0_t64) S1x1x1x16x128.size (k0_off3332_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t64 (k0_off3332_inb v1 k0_t51 v228 v257 k0_hw35 k0_t64)
theorem k0_off3333_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3333 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t64
theorem k0_off3333_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3333 v1 k0_t51 v228 v257 k0_t64) S1x1x1x16x128.size (k0_off3333_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t64 (k0_off3333_inb v1 k0_t51 v228 v257 k0_hw35 k0_t64)
theorem k0_off3334_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3334 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t64
theorem k0_off3334_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3334 v1 k0_t51 v228 v257 k0_t64) S1x1x1x16x128.size (k0_off3334_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t64 (k0_off3334_inb v1 k0_t51 v228 v257 k0_hw35 k0_t64)
theorem k0_off3335_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3335 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t64
theorem k0_off3335_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3335 v1 k0_t51 v228 v257 k0_t64) S1x1x1x16x128.size (k0_off3335_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t64 (k0_off3335_inb v1 k0_t51 v228 v257 k0_hw35 k0_t64)
theorem k0_off3336_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3336 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t64
theorem k0_off3336_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3336 v1 k0_t51 v228 v257 k0_t64) S1x1x1x16x128.size (k0_off3336_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t64 (k0_off3336_inb v1 k0_t51 v228 v257 k0_hw35 k0_t64)
theorem k0_off3337_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3337 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t64
theorem k0_off3337_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3337 v1 k0_t51 v228 v257 k0_t64) S1x1x1x16x128.size (k0_off3337_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t64 (k0_off3337_inb v1 k0_t51 v228 v257 k0_hw35 k0_t64)
theorem k0_off3338_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3338 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t64
theorem k0_off3338_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3338 v1 k0_t51 v228 v257 k0_t64) S1x1x1x16x128.size (k0_off3338_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t64 (k0_off3338_inb v1 k0_t51 v228 v257 k0_hw35 k0_t64)
theorem k0_off3339_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3339 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t64
theorem k0_off3339_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3339 v1 k0_t51 v228 v257 k0_t64) S1x1x1x16x128.size (k0_off3339_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t64 (k0_off3339_inb v1 k0_t51 v228 v257 k0_hw35 k0_t64)
theorem k0_off3340_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3340 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t64
theorem k0_off3340_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3340 v1 k0_t51 v228 v257 k0_t64) S1x1x1x16x128.size (k0_off3340_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t64 (k0_off3340_inb v1 k0_t51 v228 v257 k0_hw35 k0_t64)
theorem k0_off3341_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3341 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t64
theorem k0_off3341_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3341 v1 k0_t51 v228 v257 k0_t64) S1x1x1x16x128.size (k0_off3341_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t64 (k0_off3341_inb v1 k0_t51 v228 v257 k0_hw35 k0_t64)
theorem k0_off3342_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3342 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t64
theorem k0_off3342_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3342 v1 k0_t51 v228 v257 k0_t64) S1x1x1x16x128.size (k0_off3342_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t64 (k0_off3342_inb v1 k0_t51 v228 v257 k0_hw35 k0_t64)
theorem k0_off3343_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3343 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.1 k0_t64
theorem k0_off3343_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3343 v1 k0_t51 v228 v257 k0_t64) S1x1x1x16x128.size (k0_off3343_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.2.1 k0_t64 (k0_off3343_inb v1 k0_t51 v228 v257 k0_hw35 k0_t64)
theorem k0_off3344_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3344 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.2.2.1 k0_t64
theorem k0_off3344_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3344 v1 k0_t51 v228 v257 k0_t64) S1x1x1x16x128.size (k0_off3344_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.2.2.2.1 k0_t64 (k0_off3344_inb v1 k0_t51 v228 v257 k0_hw35 k0_t64)
theorem k0_off3345_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3345 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.2.2.2.2.1 k0_t64
theorem k0_off3345_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3345 v1 k0_t51 v228 v257 k0_t64) S1x1x1x16x128.size (k0_off3345_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.2.2.2.2.2.1 k0_t64 (k0_off3345_inb v1 k0_t51 v228 v257 k0_hw35 k0_t64)
theorem k0_off3346_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3346 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t64
theorem k0_off3346_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3346 v1 k0_t51 v228 v257 k0_t64) S1x1x1x16x128.size (k0_off3346_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t64 (k0_off3346_inb v1 k0_t51 v228 v257 k0_hw35 k0_t64)
theorem k0_off3347_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3347 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t64
theorem k0_off3347_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3347 v1 k0_t51 v228 v257 k0_t64) S1x1x1x16x128.size (k0_off3347_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t64 (k0_off3347_inb v1 k0_t51 v228 v257 k0_hw35 k0_t64)
theorem k0_off3348_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3348 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t64
theorem k0_off3348_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3348 v1 k0_t51 v228 v257 k0_t64) S1x1x1x16x128.size (k0_off3348_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t64 (k0_off3348_inb v1 k0_t51 v228 v257 k0_hw35 k0_t64)
theorem k0_off3349_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3349 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t64
theorem k0_off3349_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3349 v1 k0_t51 v228 v257 k0_t64) S1x1x1x16x128.size (k0_off3349_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t64 (k0_off3349_inb v1 k0_t51 v228 v257 k0_hw35 k0_t64)
theorem k0_off3350_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3350 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t64
theorem k0_off3350_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3350 v1 k0_t51 v228 v257 k0_t64) S1x1x1x16x128.size (k0_off3350_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t64 (k0_off3350_inb v1 k0_t51 v228 v257 k0_hw35 k0_t64)
theorem k0_off3351_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3351 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t64
theorem k0_off3351_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3351 v1 k0_t51 v228 v257 k0_t64) S1x1x1x16x128.size (k0_off3351_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t64 (k0_off3351_inb v1 k0_t51 v228 v257 k0_hw35 k0_t64)
theorem k0_off3352_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3352 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t64
theorem k0_off3352_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3352 v1 k0_t51 v228 v257 k0_t64) S1x1x1x16x128.size (k0_off3352_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t64 (k0_off3352_inb v1 k0_t51 v228 v257 k0_hw35 k0_t64)
theorem k0_off3353_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3353 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t64
theorem k0_off3353_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3353 v1 k0_t51 v228 v257 k0_t64) S1x1x1x16x128.size (k0_off3353_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t64 (k0_off3353_inb v1 k0_t51 v228 v257 k0_hw35 k0_t64)
theorem k0_off3354_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3354 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t64
theorem k0_off3354_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3354 v1 k0_t51 v228 v257 k0_t64) S1x1x1x16x128.size (k0_off3354_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t64 (k0_off3354_inb v1 k0_t51 v228 v257 k0_hw35 k0_t64)
theorem k0_off3355_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3355 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t64
theorem k0_off3355_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3355 v1 k0_t51 v228 v257 k0_t64) S1x1x1x16x128.size (k0_off3355_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t64 (k0_off3355_inb v1 k0_t51 v228 v257 k0_hw35 k0_t64)
theorem k0_off3356_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3356 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t64
theorem k0_off3356_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3356 v1 k0_t51 v228 v257 k0_t64) S1x1x1x16x128.size (k0_off3356_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t64 (k0_off3356_inb v1 k0_t51 v228 v257 k0_hw35 k0_t64)
theorem k0_off3357_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3357 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t64
theorem k0_off3357_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3357 v1 k0_t51 v228 v257 k0_t64) S1x1x1x16x128.size (k0_off3357_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t64 (k0_off3357_inb v1 k0_t51 v228 v257 k0_hw35 k0_t64)
theorem k0_off3358_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3358 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t64
theorem k0_off3358_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3358 v1 k0_t51 v228 v257 k0_t64) S1x1x1x16x128.size (k0_off3358_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t64 (k0_off3358_inb v1 k0_t51 v228 v257 k0_hw35 k0_t64)
theorem k0_off3359_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3359 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.1 k0_t64
theorem k0_off3359_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3359 v1 k0_t51 v228 v257 k0_t64) S1x1x1x16x128.size (k0_off3359_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.2.1 k0_t64 (k0_off3359_inb v1 k0_t51 v228 v257 k0_hw35 k0_t64)
theorem k0_off3360_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3360 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.2.2.1 k0_t64
theorem k0_off3360_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3360 v1 k0_t51 v228 v257 k0_t64) S1x1x1x16x128.size (k0_off3360_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.2.2.2.1 k0_t64 (k0_off3360_inb v1 k0_t51 v228 v257 k0_hw35 k0_t64)
theorem k0_off3361_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3361 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.2.2.2.2.1 k0_t64
theorem k0_off3361_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3361 v1 k0_t51 v228 v257 k0_t64) S1x1x1x16x128.size (k0_off3361_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t64 (k0_off3361_inb v1 k0_t51 v228 v257 k0_hw35 k0_t64)
theorem k0_off3362_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3362 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t64
theorem k0_off3362_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3362 v1 k0_t51 v228 v257 k0_t64) S1x1x1x16x128.size (k0_off3362_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t64 (k0_off3362_inb v1 k0_t51 v228 v257 k0_hw35 k0_t64)
theorem k0_off3363_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3363 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t64
theorem k0_off3363_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3363 v1 k0_t51 v228 v257 k0_t64) S1x1x1x16x128.size (k0_off3363_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t64 (k0_off3363_inb v1 k0_t51 v228 v257 k0_hw35 k0_t64)
theorem k0_off3364_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3364 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t64
theorem k0_off3364_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3364 v1 k0_t51 v228 v257 k0_t64) S1x1x1x16x128.size (k0_off3364_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t64 (k0_off3364_inb v1 k0_t51 v228 v257 k0_hw35 k0_t64)
theorem k0_off3365_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3365 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t64
theorem k0_off3365_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3365 v1 k0_t51 v228 v257 k0_t64) S1x1x1x16x128.size (k0_off3365_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t64 (k0_off3365_inb v1 k0_t51 v228 v257 k0_hw35 k0_t64)
theorem k0_off3366_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3366 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t64
theorem k0_off3366_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3366 v1 k0_t51 v228 v257 k0_t64) S1x1x1x16x128.size (k0_off3366_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t64 (k0_off3366_inb v1 k0_t51 v228 v257 k0_hw35 k0_t64)
theorem k0_off3367_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3367 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t64
theorem k0_off3367_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3367 v1 k0_t51 v228 v257 k0_t64) S1x1x1x16x128.size (k0_off3367_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t64 (k0_off3367_inb v1 k0_t51 v228 v257 k0_hw35 k0_t64)
theorem k0_off3368_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3368 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t64
theorem k0_off3368_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3368 v1 k0_t51 v228 v257 k0_t64) S1x1x1x16x128.size (k0_off3368_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t64 (k0_off3368_inb v1 k0_t51 v228 v257 k0_hw35 k0_t64)
theorem k0_off3369_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3369 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t64
theorem k0_off3369_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3369 v1 k0_t51 v228 v257 k0_t64) S1x1x1x16x128.size (k0_off3369_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t64 (k0_off3369_inb v1 k0_t51 v228 v257 k0_hw35 k0_t64)
theorem k0_off3370_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3370 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t64
theorem k0_off3370_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3370 v1 k0_t51 v228 v257 k0_t64) S1x1x1x16x128.size (k0_off3370_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t64 (k0_off3370_inb v1 k0_t51 v228 v257 k0_hw35 k0_t64)
theorem k0_off3371_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3371 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t64
theorem k0_off3371_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3371 v1 k0_t51 v228 v257 k0_t64) S1x1x1x16x128.size (k0_off3371_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t64 (k0_off3371_inb v1 k0_t51 v228 v257 k0_hw35 k0_t64)
theorem k0_off3372_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3372 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t64
theorem k0_off3372_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3372 v1 k0_t51 v228 v257 k0_t64) S1x1x1x16x128.size (k0_off3372_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t64 (k0_off3372_inb v1 k0_t51 v228 v257 k0_hw35 k0_t64)
theorem k0_off3373_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3373 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t64
theorem k0_off3373_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3373 v1 k0_t51 v228 v257 k0_t64) S1x1x1x16x128.size (k0_off3373_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t64 (k0_off3373_inb v1 k0_t51 v228 v257 k0_hw35 k0_t64)
theorem k0_off3374_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3374 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t64
theorem k0_off3374_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3374 v1 k0_t51 v228 v257 k0_t64) S1x1x1x16x128.size (k0_off3374_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t64 (k0_off3374_inb v1 k0_t51 v228 v257 k0_hw35 k0_t64)
theorem k0_off3375_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3375 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.1 k0_t64
theorem k0_off3375_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3375 v1 k0_t51 v228 v257 k0_t64) S1x1x1x16x128.size (k0_off3375_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.2.1 k0_t64 (k0_off3375_inb v1 k0_t51 v228 v257 k0_hw35 k0_t64)
theorem k0_off3376_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3376 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.2.2.1 k0_t64
theorem k0_off3376_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3376 v1 k0_t51 v228 v257 k0_t64) S1x1x1x16x128.size (k0_off3376_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.2.2.2.1 k0_t64 (k0_off3376_inb v1 k0_t51 v228 v257 k0_hw35 k0_t64)
theorem k0_off3377_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3377 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t64
theorem k0_off3377_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3377 v1 k0_t51 v228 v257 k0_t64) S1x1x1x16x128.size (k0_off3377_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t64 (k0_off3377_inb v1 k0_t51 v228 v257 k0_hw35 k0_t64)
theorem k0_off3378_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3378 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t64
theorem k0_off3378_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3378 v1 k0_t51 v228 v257 k0_t64) S1x1x1x16x128.size (k0_off3378_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t64 (k0_off3378_inb v1 k0_t51 v228 v257 k0_hw35 k0_t64)
theorem k0_off3379_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3379 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t64
theorem k0_off3379_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3379 v1 k0_t51 v228 v257 k0_t64) S1x1x1x16x128.size (k0_off3379_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t64 (k0_off3379_inb v1 k0_t51 v228 v257 k0_hw35 k0_t64)
theorem k0_off3380_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3380 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t64
theorem k0_off3380_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3380 v1 k0_t51 v228 v257 k0_t64) S1x1x1x16x128.size (k0_off3380_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t64 (k0_off3380_inb v1 k0_t51 v228 v257 k0_hw35 k0_t64)
theorem k0_off3381_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3381 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t64
theorem k0_off3381_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3381 v1 k0_t51 v228 v257 k0_t64) S1x1x1x16x128.size (k0_off3381_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t64 (k0_off3381_inb v1 k0_t51 v228 v257 k0_hw35 k0_t64)
theorem k0_off3382_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3382 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t64
theorem k0_off3382_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3382 v1 k0_t51 v228 v257 k0_t64) S1x1x1x16x128.size (k0_off3382_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t64 (k0_off3382_inb v1 k0_t51 v228 v257 k0_hw35 k0_t64)
theorem k0_off3383_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3383 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t64
theorem k0_off3383_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3383 v1 k0_t51 v228 v257 k0_t64) S1x1x1x16x128.size (k0_off3383_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t64 (k0_off3383_inb v1 k0_t51 v228 v257 k0_hw35 k0_t64)
theorem k0_off3384_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3384 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t64
theorem k0_off3384_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3384 v1 k0_t51 v228 v257 k0_t64) S1x1x1x16x128.size (k0_off3384_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t64 (k0_off3384_inb v1 k0_t51 v228 v257 k0_hw35 k0_t64)
theorem k0_off3385_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3385 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t64
theorem k0_off3385_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3385 v1 k0_t51 v228 v257 k0_t64) S1x1x1x16x128.size (k0_off3385_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t64 (k0_off3385_inb v1 k0_t51 v228 v257 k0_hw35 k0_t64)
theorem k0_off3386_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3386 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t64
theorem k0_off3386_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3386 v1 k0_t51 v228 v257 k0_t64) S1x1x1x16x128.size (k0_off3386_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t64 (k0_off3386_inb v1 k0_t51 v228 v257 k0_hw35 k0_t64)
theorem k0_off3387_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3387 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t64
theorem k0_off3387_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3387 v1 k0_t51 v228 v257 k0_t64) S1x1x1x16x128.size (k0_off3387_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t64 (k0_off3387_inb v1 k0_t51 v228 v257 k0_hw35 k0_t64)
theorem k0_off3388_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3388 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t64
theorem k0_off3388_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3388 v1 k0_t51 v228 v257 k0_t64) S1x1x1x16x128.size (k0_off3388_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t64 (k0_off3388_inb v1 k0_t51 v228 v257 k0_hw35 k0_t64)
theorem k0_off3389_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3389 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t64
theorem k0_off3389_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3389 v1 k0_t51 v228 v257 k0_t64) S1x1x1x16x128.size (k0_off3389_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t64 (k0_off3389_inb v1 k0_t51 v228 v257 k0_hw35 k0_t64)
theorem k0_off3390_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3390 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t64
theorem k0_off3390_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3390 v1 k0_t51 v228 v257 k0_t64) S1x1x1x16x128.size (k0_off3390_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t64 (k0_off3390_inb v1 k0_t51 v228 v257 k0_hw35 k0_t64)
theorem k0_off3391_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3391 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.2.1.1 k0_t64
theorem k0_off3391_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3391 v1 k0_t51 v228 v257 k0_t64) S1x1x1x16x128.size (k0_off3391_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.2.1.2.1 k0_t64 (k0_off3391_inb v1 k0_t51 v228 v257 k0_hw35 k0_t64)
theorem k0_off3392_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3392 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.2.1.2.2.1 k0_t64
theorem k0_off3392_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3392 v1 k0_t51 v228 v257 k0_t64) S1x1x1x16x128.size (k0_off3392_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.2.1.2.2.2.1 k0_t64 (k0_off3392_inb v1 k0_t51 v228 v257 k0_hw35 k0_t64)
theorem k0_off3393_inb : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), ∀ a, (k0_off3393 v1 k0_t51 v228 v257 k0_t64) a + S1x1x1x16x128.size a ≤ S2x2x108x128x128.size a := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t64
theorem k0_off3393_packedbf16 : ∀ (v1 : BitVec 32) (k0_t51 : Fin (k0_t51_loop v1).trips) (v228 : BitVec 32) (v257 : BitVec 32) (k0_hw35 : k0_chk35 v1 k0_t51 v228 v257) (k0_t64 : Fin (k0_t64_loop v228 v257).trips), (Rect.unit (s := S2x2x108x128x128) (k0_off3393 v1 k0_t51 v228 v257 k0_t64) S1x1x1x16x128.size (k0_off3393_inb v1 k0_t51 v228 v257 k0_hw35 k0_t64)).PackedRows (EltTy.packing .bf16) := fun v1 k0_t51 v228 v257 k0_hw35 k0_t64 => k0_hw35.2.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t64 (k0_off3393_inb v1 k0_t51 v228 v257 k0_hw35 k0_t64)
theorem k0_t65_ok : ∀ (v1 : BitVec 32) (k0_t51 : Fin (k0_t51_loop v1).trips) (v228 : BitVec 32) (v257 : BitVec 32) (k0_hw35 : k0_chk35 v1 k0_t51 v228 v257), (k0_t65_loop v228 v257).OK := fun v1 k0_t51 v228 v257 k0_hw35 => k0_hw35.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.1
theorem k0_mult27_dvd : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), 16 ∣ (k0_mult27 v228 v257 k0_t65).toNat := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t65
theorem k0_off3394_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3394 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t65
theorem k0_off3394_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3394 v1 k0_t51 v228 v257 k0_t65) S1x1x1x16x128.size (k0_off3394_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t65 (k0_off3394_inb v1 k0_t51 v228 v257 k0_hw35 k0_t65)
theorem k0_off3395_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3395 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t65
theorem k0_off3395_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3395 v1 k0_t51 v228 v257 k0_t65) S1x1x1x16x128.size (k0_off3395_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t65 (k0_off3395_inb v1 k0_t51 v228 v257 k0_hw35 k0_t65)
theorem k0_off3396_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3396 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t65
theorem k0_off3396_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3396 v1 k0_t51 v228 v257 k0_t65) S1x1x1x16x128.size (k0_off3396_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t65 (k0_off3396_inb v1 k0_t51 v228 v257 k0_hw35 k0_t65)
theorem k0_off3397_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3397 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t65
theorem k0_off3397_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3397 v1 k0_t51 v228 v257 k0_t65) S1x1x1x16x128.size (k0_off3397_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t65 (k0_off3397_inb v1 k0_t51 v228 v257 k0_hw35 k0_t65)
theorem k0_off3398_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3398 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t65
theorem k0_off3398_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3398 v1 k0_t51 v228 v257 k0_t65) S1x1x1x16x128.size (k0_off3398_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t65 (k0_off3398_inb v1 k0_t51 v228 v257 k0_hw35 k0_t65)
theorem k0_off3399_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3399 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t65
theorem k0_off3399_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3399 v1 k0_t51 v228 v257 k0_t65) S1x1x1x16x128.size (k0_off3399_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t65 (k0_off3399_inb v1 k0_t51 v228 v257 k0_hw35 k0_t65)
theorem k0_off3400_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3400 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t65
theorem k0_off3400_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3400 v1 k0_t51 v228 v257 k0_t65) S1x1x1x16x128.size (k0_off3400_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t65 (k0_off3400_inb v1 k0_t51 v228 v257 k0_hw35 k0_t65)
theorem k0_off3401_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3401 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t65
theorem k0_off3401_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3401 v1 k0_t51 v228 v257 k0_t65) S1x1x1x16x128.size (k0_off3401_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t65 (k0_off3401_inb v1 k0_t51 v228 v257 k0_hw35 k0_t65)
theorem k0_off3402_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3402 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t65
theorem k0_off3402_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3402 v1 k0_t51 v228 v257 k0_t65) S1x1x1x16x128.size (k0_off3402_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t65 (k0_off3402_inb v1 k0_t51 v228 v257 k0_hw35 k0_t65)
theorem k0_off3403_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3403 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t65
theorem k0_off3403_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3403 v1 k0_t51 v228 v257 k0_t65) S1x1x1x16x128.size (k0_off3403_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t65 (k0_off3403_inb v1 k0_t51 v228 v257 k0_hw35 k0_t65)
theorem k0_off3404_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3404 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t65
theorem k0_off3404_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3404 v1 k0_t51 v228 v257 k0_t65) S1x1x1x16x128.size (k0_off3404_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t65 (k0_off3404_inb v1 k0_t51 v228 v257 k0_hw35 k0_t65)
theorem k0_off3405_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3405 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t65
theorem k0_off3405_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3405 v1 k0_t51 v228 v257 k0_t65) S1x1x1x16x128.size (k0_off3405_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t65 (k0_off3405_inb v1 k0_t51 v228 v257 k0_hw35 k0_t65)
theorem k0_off3406_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3406 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.1 k0_t65
theorem k0_off3406_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3406 v1 k0_t51 v228 v257 k0_t65) S1x1x1x16x128.size (k0_off3406_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.2.1 k0_t65 (k0_off3406_inb v1 k0_t51 v228 v257 k0_hw35 k0_t65)
theorem k0_off3407_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3407 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.2.2.1 k0_t65
theorem k0_off3407_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3407 v1 k0_t51 v228 v257 k0_t65) S1x1x1x16x128.size (k0_off3407_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.2.2.2.1 k0_t65 (k0_off3407_inb v1 k0_t51 v228 v257 k0_hw35 k0_t65)
theorem k0_off3408_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3408 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t65
theorem k0_off3408_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3408 v1 k0_t51 v228 v257 k0_t65) S1x1x1x16x128.size (k0_off3408_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t65 (k0_off3408_inb v1 k0_t51 v228 v257 k0_hw35 k0_t65)
theorem k0_off3409_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3409 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t65
theorem k0_off3409_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3409 v1 k0_t51 v228 v257 k0_t65) S1x1x1x16x128.size (k0_off3409_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t65 (k0_off3409_inb v1 k0_t51 v228 v257 k0_hw35 k0_t65)
theorem k0_off3410_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3410 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t65
theorem k0_off3410_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3410 v1 k0_t51 v228 v257 k0_t65) S1x1x1x16x128.size (k0_off3410_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t65 (k0_off3410_inb v1 k0_t51 v228 v257 k0_hw35 k0_t65)
theorem k0_off3411_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3411 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t65
theorem k0_off3411_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3411 v1 k0_t51 v228 v257 k0_t65) S1x1x1x16x128.size (k0_off3411_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t65 (k0_off3411_inb v1 k0_t51 v228 v257 k0_hw35 k0_t65)
theorem k0_off3412_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3412 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t65
theorem k0_off3412_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3412 v1 k0_t51 v228 v257 k0_t65) S1x1x1x16x128.size (k0_off3412_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t65 (k0_off3412_inb v1 k0_t51 v228 v257 k0_hw35 k0_t65)
theorem k0_off3413_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3413 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t65
theorem k0_off3413_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3413 v1 k0_t51 v228 v257 k0_t65) S1x1x1x16x128.size (k0_off3413_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t65 (k0_off3413_inb v1 k0_t51 v228 v257 k0_hw35 k0_t65)
theorem k0_off3414_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3414 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t65
theorem k0_off3414_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3414 v1 k0_t51 v228 v257 k0_t65) S1x1x1x16x128.size (k0_off3414_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t65 (k0_off3414_inb v1 k0_t51 v228 v257 k0_hw35 k0_t65)
theorem k0_off3415_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3415 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t65
theorem k0_off3415_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3415 v1 k0_t51 v228 v257 k0_t65) S1x1x1x16x128.size (k0_off3415_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t65 (k0_off3415_inb v1 k0_t51 v228 v257 k0_hw35 k0_t65)
theorem k0_off3416_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3416 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t65
theorem k0_off3416_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3416 v1 k0_t51 v228 v257 k0_t65) S1x1x1x16x128.size (k0_off3416_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t65 (k0_off3416_inb v1 k0_t51 v228 v257 k0_hw35 k0_t65)
theorem k0_off3417_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3417 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t65
theorem k0_off3417_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3417 v1 k0_t51 v228 v257 k0_t65) S1x1x1x16x128.size (k0_off3417_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t65 (k0_off3417_inb v1 k0_t51 v228 v257 k0_hw35 k0_t65)
theorem k0_off3418_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3418 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t65
theorem k0_off3418_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3418 v1 k0_t51 v228 v257 k0_t65) S1x1x1x16x128.size (k0_off3418_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t65 (k0_off3418_inb v1 k0_t51 v228 v257 k0_hw35 k0_t65)
theorem k0_off3419_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3419 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t65
theorem k0_off3419_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3419 v1 k0_t51 v228 v257 k0_t65) S1x1x1x16x128.size (k0_off3419_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t65 (k0_off3419_inb v1 k0_t51 v228 v257 k0_hw35 k0_t65)
theorem k0_off3420_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3420 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t65
theorem k0_off3420_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3420 v1 k0_t51 v228 v257 k0_t65) S1x1x1x16x128.size (k0_off3420_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t65 (k0_off3420_inb v1 k0_t51 v228 v257 k0_hw35 k0_t65)
theorem k0_off3421_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3421 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t65
theorem k0_off3421_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3421 v1 k0_t51 v228 v257 k0_t65) S1x1x1x16x128.size (k0_off3421_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t65 (k0_off3421_inb v1 k0_t51 v228 v257 k0_hw35 k0_t65)
theorem k0_off3422_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3422 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.1 k0_t65
theorem k0_off3422_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3422 v1 k0_t51 v228 v257 k0_t65) S1x1x1x16x128.size (k0_off3422_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.2.1 k0_t65 (k0_off3422_inb v1 k0_t51 v228 v257 k0_hw35 k0_t65)
theorem k0_off3423_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3423 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.2.2.1 k0_t65
theorem k0_off3423_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3423 v1 k0_t51 v228 v257 k0_t65) S1x1x1x16x128.size (k0_off3423_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.2.2.2.1 k0_t65 (k0_off3423_inb v1 k0_t51 v228 v257 k0_hw35 k0_t65)
theorem k0_off3424_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3424 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t65
theorem k0_off3424_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3424 v1 k0_t51 v228 v257 k0_t65) S1x1x1x16x128.size (k0_off3424_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t65 (k0_off3424_inb v1 k0_t51 v228 v257 k0_hw35 k0_t65)
theorem k0_off3425_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3425 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t65
theorem k0_off3425_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3425 v1 k0_t51 v228 v257 k0_t65) S1x1x1x16x128.size (k0_off3425_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t65 (k0_off3425_inb v1 k0_t51 v228 v257 k0_hw35 k0_t65)
theorem k0_off3426_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3426 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t65
theorem k0_off3426_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3426 v1 k0_t51 v228 v257 k0_t65) S1x1x1x16x128.size (k0_off3426_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t65 (k0_off3426_inb v1 k0_t51 v228 v257 k0_hw35 k0_t65)
theorem k0_off3427_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3427 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t65
theorem k0_off3427_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3427 v1 k0_t51 v228 v257 k0_t65) S1x1x1x16x128.size (k0_off3427_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t65 (k0_off3427_inb v1 k0_t51 v228 v257 k0_hw35 k0_t65)
theorem k0_off3428_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3428 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t65
theorem k0_off3428_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3428 v1 k0_t51 v228 v257 k0_t65) S1x1x1x16x128.size (k0_off3428_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t65 (k0_off3428_inb v1 k0_t51 v228 v257 k0_hw35 k0_t65)
theorem k0_off3429_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3429 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t65
theorem k0_off3429_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3429 v1 k0_t51 v228 v257 k0_t65) S1x1x1x16x128.size (k0_off3429_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t65 (k0_off3429_inb v1 k0_t51 v228 v257 k0_hw35 k0_t65)
theorem k0_off3430_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3430 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t65
theorem k0_off3430_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3430 v1 k0_t51 v228 v257 k0_t65) S1x1x1x16x128.size (k0_off3430_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t65 (k0_off3430_inb v1 k0_t51 v228 v257 k0_hw35 k0_t65)
theorem k0_off3431_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3431 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t65
theorem k0_off3431_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3431 v1 k0_t51 v228 v257 k0_t65) S1x1x1x16x128.size (k0_off3431_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t65 (k0_off3431_inb v1 k0_t51 v228 v257 k0_hw35 k0_t65)
theorem k0_off3432_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3432 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t65
theorem k0_off3432_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3432 v1 k0_t51 v228 v257 k0_t65) S1x1x1x16x128.size (k0_off3432_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t65 (k0_off3432_inb v1 k0_t51 v228 v257 k0_hw35 k0_t65)
theorem k0_off3433_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3433 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t65
theorem k0_off3433_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3433 v1 k0_t51 v228 v257 k0_t65) S1x1x1x16x128.size (k0_off3433_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t65 (k0_off3433_inb v1 k0_t51 v228 v257 k0_hw35 k0_t65)
theorem k0_off3434_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3434 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t65
theorem k0_off3434_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3434 v1 k0_t51 v228 v257 k0_t65) S1x1x1x16x128.size (k0_off3434_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t65 (k0_off3434_inb v1 k0_t51 v228 v257 k0_hw35 k0_t65)
theorem k0_off3435_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3435 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t65
theorem k0_off3435_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3435 v1 k0_t51 v228 v257 k0_t65) S1x1x1x16x128.size (k0_off3435_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t65 (k0_off3435_inb v1 k0_t51 v228 v257 k0_hw35 k0_t65)
theorem k0_off3436_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3436 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t65
theorem k0_off3436_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3436 v1 k0_t51 v228 v257 k0_t65) S1x1x1x16x128.size (k0_off3436_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t65 (k0_off3436_inb v1 k0_t51 v228 v257 k0_hw35 k0_t65)
theorem k0_off3437_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3437 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t65
theorem k0_off3437_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3437 v1 k0_t51 v228 v257 k0_t65) S1x1x1x16x128.size (k0_off3437_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t65 (k0_off3437_inb v1 k0_t51 v228 v257 k0_hw35 k0_t65)
theorem k0_off3438_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3438 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.1 k0_t65
theorem k0_off3438_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3438 v1 k0_t51 v228 v257 k0_t65) S1x1x1x16x128.size (k0_off3438_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.2.1 k0_t65 (k0_off3438_inb v1 k0_t51 v228 v257 k0_hw35 k0_t65)
theorem k0_off3439_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3439 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.2.2.1 k0_t65
theorem k0_off3439_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3439 v1 k0_t51 v228 v257 k0_t65) S1x1x1x16x128.size (k0_off3439_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.1 k0_t65 (k0_off3439_inb v1 k0_t51 v228 v257 k0_hw35 k0_t65)
theorem k0_off3440_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3440 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t65
theorem k0_off3440_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3440 v1 k0_t51 v228 v257 k0_t65) S1x1x1x16x128.size (k0_off3440_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t65 (k0_off3440_inb v1 k0_t51 v228 v257 k0_hw35 k0_t65)
theorem k0_off3441_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3441 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t65
theorem k0_off3441_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3441 v1 k0_t51 v228 v257 k0_t65) S1x1x1x16x128.size (k0_off3441_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t65 (k0_off3441_inb v1 k0_t51 v228 v257 k0_hw35 k0_t65)
theorem k0_off3442_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3442 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t65
theorem k0_off3442_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3442 v1 k0_t51 v228 v257 k0_t65) S1x1x1x16x128.size (k0_off3442_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t65 (k0_off3442_inb v1 k0_t51 v228 v257 k0_hw35 k0_t65)
theorem k0_off3443_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3443 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t65
theorem k0_off3443_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3443 v1 k0_t51 v228 v257 k0_t65) S1x1x1x16x128.size (k0_off3443_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t65 (k0_off3443_inb v1 k0_t51 v228 v257 k0_hw35 k0_t65)
theorem k0_off3444_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3444 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t65
theorem k0_off3444_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3444 v1 k0_t51 v228 v257 k0_t65) S1x1x1x16x128.size (k0_off3444_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t65 (k0_off3444_inb v1 k0_t51 v228 v257 k0_hw35 k0_t65)
theorem k0_off3445_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3445 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t65
theorem k0_off3445_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3445 v1 k0_t51 v228 v257 k0_t65) S1x1x1x16x128.size (k0_off3445_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t65 (k0_off3445_inb v1 k0_t51 v228 v257 k0_hw35 k0_t65)
theorem k0_off3446_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3446 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t65
theorem k0_off3446_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3446 v1 k0_t51 v228 v257 k0_t65) S1x1x1x16x128.size (k0_off3446_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t65 (k0_off3446_inb v1 k0_t51 v228 v257 k0_hw35 k0_t65)
theorem k0_off3447_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3447 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t65
theorem k0_off3447_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3447 v1 k0_t51 v228 v257 k0_t65) S1x1x1x16x128.size (k0_off3447_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t65 (k0_off3447_inb v1 k0_t51 v228 v257 k0_hw35 k0_t65)
theorem k0_off3448_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3448 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t65
theorem k0_off3448_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3448 v1 k0_t51 v228 v257 k0_t65) S1x1x1x16x128.size (k0_off3448_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t65 (k0_off3448_inb v1 k0_t51 v228 v257 k0_hw35 k0_t65)
theorem k0_off3449_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3449 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t65
theorem k0_off3449_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3449 v1 k0_t51 v228 v257 k0_t65) S1x1x1x16x128.size (k0_off3449_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t65 (k0_off3449_inb v1 k0_t51 v228 v257 k0_hw35 k0_t65)
theorem k0_off3450_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3450 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t65
theorem k0_off3450_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3450 v1 k0_t51 v228 v257 k0_t65) S1x1x1x16x128.size (k0_off3450_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t65 (k0_off3450_inb v1 k0_t51 v228 v257 k0_hw35 k0_t65)
theorem k0_off3451_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3451 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t65
theorem k0_off3451_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3451 v1 k0_t51 v228 v257 k0_t65) S1x1x1x16x128.size (k0_off3451_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t65 (k0_off3451_inb v1 k0_t51 v228 v257 k0_hw35 k0_t65)
theorem k0_off3452_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3452 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t65
theorem k0_off3452_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3452 v1 k0_t51 v228 v257 k0_t65) S1x1x1x16x128.size (k0_off3452_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t65 (k0_off3452_inb v1 k0_t51 v228 v257 k0_hw35 k0_t65)
theorem k0_off3453_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3453 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t65
theorem k0_off3453_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3453 v1 k0_t51 v228 v257 k0_t65) S1x1x1x16x128.size (k0_off3453_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t65 (k0_off3453_inb v1 k0_t51 v228 v257 k0_hw35 k0_t65)
theorem k0_off3454_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3454 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.1 k0_t65
theorem k0_off3454_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3454 v1 k0_t51 v228 v257 k0_t65) S1x1x1x16x128.size (k0_off3454_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.2.1 k0_t65 (k0_off3454_inb v1 k0_t51 v228 v257 k0_hw35 k0_t65)
theorem k0_off3455_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3455 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.1 k0_t65
theorem k0_off3455_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3455 v1 k0_t51 v228 v257 k0_t65) S1x1x1x16x128.size (k0_off3455_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.1 k0_t65 (k0_off3455_inb v1 k0_t51 v228 v257 k0_hw35 k0_t65)
theorem k0_off3456_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3456 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t65
theorem k0_off3456_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3456 v1 k0_t51 v228 v257 k0_t65) S1x1x1x16x128.size (k0_off3456_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t65 (k0_off3456_inb v1 k0_t51 v228 v257 k0_hw35 k0_t65)
theorem k0_off3457_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3457 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t65
theorem k0_off3457_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3457 v1 k0_t51 v228 v257 k0_t65) S1x1x1x16x128.size (k0_off3457_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t65 (k0_off3457_inb v1 k0_t51 v228 v257 k0_hw35 k0_t65)
theorem k0_off3458_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3458 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t65
theorem k0_off3458_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3458 v1 k0_t51 v228 v257 k0_t65) S1x1x1x16x128.size (k0_off3458_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t65 (k0_off3458_inb v1 k0_t51 v228 v257 k0_hw35 k0_t65)
theorem k0_off3459_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3459 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t65
theorem k0_off3459_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3459 v1 k0_t51 v228 v257 k0_t65) S1x1x1x16x128.size (k0_off3459_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t65 (k0_off3459_inb v1 k0_t51 v228 v257 k0_hw35 k0_t65)
theorem k0_off3460_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3460 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t65
theorem k0_off3460_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3460 v1 k0_t51 v228 v257 k0_t65) S1x1x1x16x128.size (k0_off3460_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t65 (k0_off3460_inb v1 k0_t51 v228 v257 k0_hw35 k0_t65)
theorem k0_off3461_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3461 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t65
theorem k0_off3461_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3461 v1 k0_t51 v228 v257 k0_t65) S1x1x1x16x128.size (k0_off3461_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t65 (k0_off3461_inb v1 k0_t51 v228 v257 k0_hw35 k0_t65)
theorem k0_off3462_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3462 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t65
theorem k0_off3462_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3462 v1 k0_t51 v228 v257 k0_t65) S1x1x1x16x128.size (k0_off3462_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t65 (k0_off3462_inb v1 k0_t51 v228 v257 k0_hw35 k0_t65)
theorem k0_off3463_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3463 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t65
theorem k0_off3463_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3463 v1 k0_t51 v228 v257 k0_t65) S1x1x1x16x128.size (k0_off3463_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t65 (k0_off3463_inb v1 k0_t51 v228 v257 k0_hw35 k0_t65)
theorem k0_off3464_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3464 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t65
theorem k0_off3464_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3464 v1 k0_t51 v228 v257 k0_t65) S1x1x1x16x128.size (k0_off3464_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t65 (k0_off3464_inb v1 k0_t51 v228 v257 k0_hw35 k0_t65)
theorem k0_off3465_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3465 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t65
theorem k0_off3465_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3465 v1 k0_t51 v228 v257 k0_t65) S1x1x1x16x128.size (k0_off3465_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t65 (k0_off3465_inb v1 k0_t51 v228 v257 k0_hw35 k0_t65)
theorem k0_off3466_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3466 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t65
theorem k0_off3466_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3466 v1 k0_t51 v228 v257 k0_t65) S1x1x1x16x128.size (k0_off3466_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t65 (k0_off3466_inb v1 k0_t51 v228 v257 k0_hw35 k0_t65)
theorem k0_off3467_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3467 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t65
theorem k0_off3467_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3467 v1 k0_t51 v228 v257 k0_t65) S1x1x1x16x128.size (k0_off3467_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t65 (k0_off3467_inb v1 k0_t51 v228 v257 k0_hw35 k0_t65)
theorem k0_off3468_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3468 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t65
theorem k0_off3468_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3468 v1 k0_t51 v228 v257 k0_t65) S1x1x1x16x128.size (k0_off3468_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t65 (k0_off3468_inb v1 k0_t51 v228 v257 k0_hw35 k0_t65)
theorem k0_off3469_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3469 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t65
theorem k0_off3469_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3469 v1 k0_t51 v228 v257 k0_t65) S1x1x1x16x128.size (k0_off3469_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t65 (k0_off3469_inb v1 k0_t51 v228 v257 k0_hw35 k0_t65)
theorem k0_off3470_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3470 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.1 k0_t65
theorem k0_off3470_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3470 v1 k0_t51 v228 v257 k0_t65) S1x1x1x16x128.size (k0_off3470_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.1 k0_t65 (k0_off3470_inb v1 k0_t51 v228 v257 k0_hw35 k0_t65)
theorem k0_off3471_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3471 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.1 k0_t65
theorem k0_off3471_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3471 v1 k0_t51 v228 v257 k0_t65) S1x1x1x16x128.size (k0_off3471_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.1 k0_t65 (k0_off3471_inb v1 k0_t51 v228 v257 k0_hw35 k0_t65)
theorem k0_off3472_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3472 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.1 k0_t65
theorem k0_off3472_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3472 v1 k0_t51 v228 v257 k0_t65) S1x1x1x16x128.size (k0_off3472_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.1 k0_t65 (k0_off3472_inb v1 k0_t51 v228 v257 k0_hw35 k0_t65)
theorem k0_off3473_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3473 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.1 k0_t65
theorem k0_off3473_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3473 v1 k0_t51 v228 v257 k0_t65) S1x1x1x16x128.size (k0_off3473_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.1 k0_t65 (k0_off3473_inb v1 k0_t51 v228 v257 k0_hw35 k0_t65)
theorem k0_off3474_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3474 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.1 k0_t65
theorem k0_off3474_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3474 v1 k0_t51 v228 v257 k0_t65) S1x1x1x16x128.size (k0_off3474_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.1 k0_t65 (k0_off3474_inb v1 k0_t51 v228 v257 k0_hw35 k0_t65)
theorem k0_off3475_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3475 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.1 k0_t65
theorem k0_off3475_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3475 v1 k0_t51 v228 v257 k0_t65) S1x1x1x16x128.size (k0_off3475_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.1 k0_t65 (k0_off3475_inb v1 k0_t51 v228 v257 k0_hw35 k0_t65)
theorem k0_off3476_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3476 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.1 k0_t65
theorem k0_off3476_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3476 v1 k0_t51 v228 v257 k0_t65) S1x1x1x16x128.size (k0_off3476_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.1 k0_t65 (k0_off3476_inb v1 k0_t51 v228 v257 k0_hw35 k0_t65)
theorem k0_off3477_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3477 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.1 k0_t65
theorem k0_off3477_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3477 v1 k0_t51 v228 v257 k0_t65) S1x1x1x16x128.size (k0_off3477_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.1 k0_t65 (k0_off3477_inb v1 k0_t51 v228 v257 k0_hw35 k0_t65)
theorem k0_off3478_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3478 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.1 k0_t65
theorem k0_off3478_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3478 v1 k0_t51 v228 v257 k0_t65) S1x1x1x16x128.size (k0_off3478_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.1 k0_t65 (k0_off3478_inb v1 k0_t51 v228 v257 k0_hw35 k0_t65)
theorem k0_off3479_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3479 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.1 k0_t65
theorem k0_off3479_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3479 v1 k0_t51 v228 v257 k0_t65) S1x1x1x16x128.size (k0_off3479_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.1 k0_t65 (k0_off3479_inb v1 k0_t51 v228 v257 k0_hw35 k0_t65)
theorem k0_off3480_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3480 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.1 k0_t65
theorem k0_off3480_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3480 v1 k0_t51 v228 v257 k0_t65) S1x1x1x16x128.size (k0_off3480_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.1 k0_t65 (k0_off3480_inb v1 k0_t51 v228 v257 k0_hw35 k0_t65)
theorem k0_off3481_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3481 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.1 k0_t65
theorem k0_off3481_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3481 v1 k0_t51 v228 v257 k0_t65) S1x1x1x16x128.size (k0_off3481_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.1 k0_t65 (k0_off3481_inb v1 k0_t51 v228 v257 k0_hw35 k0_t65)
theorem k0_off3482_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3482 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.1 k0_t65
theorem k0_off3482_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3482 v1 k0_t51 v228 v257 k0_t65) S1x1x1x16x128.size (k0_off3482_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.1 k0_t65 (k0_off3482_inb v1 k0_t51 v228 v257 k0_hw35 k0_t65)
theorem k0_off3483_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3483 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.1 k0_t65
theorem k0_off3483_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3483 v1 k0_t51 v228 v257 k0_t65) S1x1x1x16x128.size (k0_off3483_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.1 k0_t65 (k0_off3483_inb v1 k0_t51 v228 v257 k0_hw35 k0_t65)
theorem k0_off3484_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3484 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.1 k0_t65
theorem k0_off3484_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3484 v1 k0_t51 v228 v257 k0_t65) S1x1x1x16x128.size (k0_off3484_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.1 k0_t65 (k0_off3484_inb v1 k0_t51 v228 v257 k0_hw35 k0_t65)
theorem k0_off3485_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3485 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.1 k0_t65
theorem k0_off3485_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3485 v1 k0_t51 v228 v257 k0_t65) S1x1x1x16x128.size (k0_off3485_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.1.2.2.2.2.2.2.2.2.2.2.2.2.2.2.2.2.2.2.2.2.2.2.2.2.2.2.2.2.2.2.2 k0_t65 (k0_off3485_inb v1 k0_t51 v228 v257 k0_hw35 k0_t65)
theorem k0_off3486_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3486 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t65
theorem k0_off3486_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3486 v1 k0_t51 v228 v257 k0_t65) S1x1x1x16x128.size (k0_off3486_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t65 (k0_off3486_inb v1 k0_t51 v228 v257 k0_hw35 k0_t65)
theorem k0_off3487_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3487 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t65
theorem k0_off3487_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3487 v1 k0_t51 v228 v257 k0_t65) S1x1x1x16x128.size (k0_off3487_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t65 (k0_off3487_inb v1 k0_t51 v228 v257 k0_hw35 k0_t65)
theorem k0_off3488_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3488 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t65
theorem k0_off3488_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3488 v1 k0_t51 v228 v257 k0_t65) S1x1x1x16x128.size (k0_off3488_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t65 (k0_off3488_inb v1 k0_t51 v228 v257 k0_hw35 k0_t65)
theorem k0_off3489_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3489 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t65
theorem k0_off3489_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3489 v1 k0_t51 v228 v257 k0_t65) S1x1x1x16x128.size (k0_off3489_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t65 (k0_off3489_inb v1 k0_t51 v228 v257 k0_hw35 k0_t65)
theorem k0_off3490_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3490 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t65
theorem k0_off3490_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3490 v1 k0_t51 v228 v257 k0_t65) S1x1x1x16x128.size (k0_off3490_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t65 (k0_off3490_inb v1 k0_t51 v228 v257 k0_hw35 k0_t65)
theorem k0_off3491_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3491 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t65
theorem k0_off3491_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3491 v1 k0_t51 v228 v257 k0_t65) S1x1x1x16x128.size (k0_off3491_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t65 (k0_off3491_inb v1 k0_t51 v228 v257 k0_hw35 k0_t65)
theorem k0_off3492_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3492 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t65
theorem k0_off3492_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3492 v1 k0_t51 v228 v257 k0_t65) S1x1x1x16x128.size (k0_off3492_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t65 (k0_off3492_inb v1 k0_t51 v228 v257 k0_hw35 k0_t65)
theorem k0_off3493_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3493 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t65
theorem k0_off3493_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3493 v1 k0_t51 v228 v257 k0_t65) S1x1x1x16x128.size (k0_off3493_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t65 (k0_off3493_inb v1 k0_t51 v228 v257 k0_hw35 k0_t65)
theorem k0_off3494_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3494 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t65
theorem k0_off3494_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3494 v1 k0_t51 v228 v257 k0_t65) S1x1x1x16x128.size (k0_off3494_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t65 (k0_off3494_inb v1 k0_t51 v228 v257 k0_hw35 k0_t65)
theorem k0_off3495_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3495 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t65
theorem k0_off3495_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3495 v1 k0_t51 v228 v257 k0_t65) S1x1x1x16x128.size (k0_off3495_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t65 (k0_off3495_inb v1 k0_t51 v228 v257 k0_hw35 k0_t65)
theorem k0_off3496_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3496 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t65
theorem k0_off3496_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3496 v1 k0_t51 v228 v257 k0_t65) S1x1x1x16x128.size (k0_off3496_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t65 (k0_off3496_inb v1 k0_t51 v228 v257 k0_hw35 k0_t65)
theorem k0_off3497_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3497 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t65
theorem k0_off3497_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3497 v1 k0_t51 v228 v257 k0_t65) S1x1x1x16x128.size (k0_off3497_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t65 (k0_off3497_inb v1 k0_t51 v228 v257 k0_hw35 k0_t65)
theorem k0_off3498_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3498 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t65
theorem k0_off3498_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3498 v1 k0_t51 v228 v257 k0_t65) S1x1x1x16x128.size (k0_off3498_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t65 (k0_off3498_inb v1 k0_t51 v228 v257 k0_hw35 k0_t65)
theorem k0_off3499_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3499 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t65
theorem k0_off3499_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3499 v1 k0_t51 v228 v257 k0_t65) S1x1x1x16x128.size (k0_off3499_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t65 (k0_off3499_inb v1 k0_t51 v228 v257 k0_hw35 k0_t65)
theorem k0_off3500_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3500 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t65
theorem k0_off3500_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3500 v1 k0_t51 v228 v257 k0_t65) S1x1x1x16x128.size (k0_off3500_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t65 (k0_off3500_inb v1 k0_t51 v228 v257 k0_hw35 k0_t65)
theorem k0_off3501_inb : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), ∀ a, (k0_off3501 v1 k0_t51 v228 v257 k0_t65) a + S1x1x1x16x128.size a ≤ S2x2x108x128x128.size a := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 k0_t65
theorem k0_off3501_packedbf16 : ∀ (v1 : BitVec 32) (k0_t51 : Fin (k0_t51_loop v1).trips) (v228 : BitVec 32) (v257 : BitVec 32) (k0_hw35 : k0_chk35 v1 k0_t51 v228 v257) (k0_t65 : Fin (k0_t65_loop v228 v257).trips), (Rect.unit (s := S2x2x108x128x128) (k0_off3501 v1 k0_t51 v228 v257 k0_t65) S1x1x1x16x128.size (k0_off3501_inb v1 k0_t51 v228 v257 k0_hw35 k0_t65)).PackedRows (EltTy.packing .bf16) := fun v1 k0_t51 v228 v257 k0_hw35 k0_t65 => k0_hw35.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2 k0_t65 (k0_off3501_inb v1 k0_t51 v228 v257 k0_hw35 k0_t65)

def k0_off3502 (v1 : BitVec 32) (k0_t51 : Fin (k0_t51_loop v1).trips) : Fin 1 → Nat :=
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_452 : BitVec 32 := 2#32
  let v326 : BitVec 32 := Scalar.addi arg18 c2_i32_452
  let v327 : Index := Scalar.indexCast v326
  ![v327.toNat]
def k0_cond10 (v1 : BitVec 32) (k0_t51 : Fin (k0_t51_loop v1).trips) : BitVec 1 :=
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_442 : BitVec 32 := 2#32
  let v314 : BitVec 32 := Scalar.addi arg18 c2_i32_442
  let v315 : BitVec 1 := Scalar.cmpi .slt v314 v1
  let v316 : BitVec 32 := Scalar.extui v315
  let c0_i32_443 : BitVec 32 := 0#32
  let v317 : BitVec 1 := Scalar.cmpi .ne v316 c0_i32_443
  v317

def k0_off3503 (v328 : BitVec 32) : Fin 1 → Nat :=
  let c0_i32_454 : BitVec 32 := 0#32
  let v330 : BitVec 1 := Scalar.cmpi .sgt v328 c0_i32_454
  let v331 : BitVec 32 := Scalar.extui v330
  let c0_i32_455 : BitVec 32 := 0#32
  let v332 : BitVec 1 := Scalar.cmpi .slt v328 c0_i32_455
  let v333 : BitVec 32 := Scalar.extui v332
  let v334 : BitVec 32 := Scalar.subi v331 v333
  let c16_i32_453 : BitVec 32 := 16#32
  let c0_i32_456 : BitVec 32 := 0#32
  let v335 : BitVec 1 := Scalar.cmpi .sgt c16_i32_453 c0_i32_456
  let v336 : BitVec 32 := Scalar.extui v335
  let c0_i32_457 : BitVec 32 := 0#32
  let v337 : BitVec 1 := Scalar.cmpi .slt c16_i32_453 c0_i32_457
  let v338 : BitVec 32 := Scalar.extui v337
  let v339 : BitVec 32 := Scalar.subi v336 v338
  let v340 : BitVec 1 := Scalar.cmpi .ne v334 v339
  let v341 : BitVec 32 := Scalar.remsi v328 c16_i32_453
  let c0_i32_458 : BitVec 32 := 0#32
  let v342 : BitVec 1 := Scalar.cmpi .ne v341 c0_i32_458
  let v343 : BitVec 1 := Scalar.andi v340 v342
  let v329 : BitVec 32 := Scalar.divsi v328 c16_i32_453
  let c1_i32_459 : BitVec 32 := 1#32
  let v344 : BitVec 32 := Scalar.subi v329 c1_i32_459
  let v345 : BitVec 32 := Scalar.select v343 v344 v329
  let v356 : Index := Scalar.indexCast v345
  ![v356.toNat]

def k0_chk44 (v1 : BitVec 32) (k0_t51 : Fin (k0_t51_loop v1).trips) (v328 : BitVec 32) : Prop :=
  (∀ (k0_h10 : k0_cond10 v1 k0_t51 = 1#1), ∀ a, (k0_off3503 v328) a + S1.size a ≤ S8.size a)
theorem k0_off3503_inb : ∀ (v1 : BitVec 32) (k0_t51 : Fin (k0_t51_loop v1).trips) (v328 : BitVec 32) (k0_hw44 : k0_chk44 v1 k0_t51 v328), ∀ (k0_h10 : k0_cond10 v1 k0_t51 = 1#1), ∀ a, (k0_off3503 v328) a + S1.size a ≤ S8.size a := fun v1 k0_t51 v328 k0_hw44 k0_h10 => k0_hw44 k0_h10

@[reducible] def k0_t66_loop (v328 : BitVec 32) (v357 : BitVec 32) : Scf.Loop 32 :=
  let c0_i32_474 : BitVec 32 := 0#32
  let c8_i32_472 : BitVec 32 := 8#32
  let c0_i32_471 : BitVec 32 := 0#32
  let c2048_i32_467 : BitVec 32 := 2048#32
  let c0_i32_466 : BitVec 32 := 0#32
  let v358 : BitVec 32 := Scalar.maxsi c0_i32_466 v357
  let v359 : BitVec 32 := Scalar.minsi c2048_i32_467 v358
  let c15_i32_468 : BitVec 32 := 15#32
  let v360 : BitVec 32 := Scalar.addi v359 c15_i32_468
  let c16_i32_469 : BitVec 32 := 16#32
  let v361 : BitVec 32 := Scalar.divsi v360 c16_i32_469
  let c16_i32_460 : BitVec 32 := 16#32
  let c0_i32_461 : BitVec 32 := 0#32
  let v346 : BitVec 1 := Scalar.cmpi .eq c16_i32_460 c0_i32_461
  let c1_i32_462 : BitVec 32 := 1#32
  let v347 : BitVec 32 := Scalar.select v346 c1_i32_462 c16_i32_460
  let v348 : BitVec 32 := Scalar.remsi v328 v347
  let c0_i32_464 : BitVec 32 := 0#32
  let v350 : BitVec 1 := Scalar.cmpi .slt v348 c0_i32_464
  let c0_i32_465 : BitVec 32 := 0#32
  let v351 : BitVec 1 := Scalar.cmpi .slt v347 c0_i32_465
  let v352 : BitVec 1 := Scalar.xori v350 v351
  let c0_i32_463 : BitVec 32 := 0#32
  let v349 : BitVec 1 := Scalar.cmpi .ne v348 c0_i32_463
  let v353 : BitVec 1 := Scalar.andi v352 v349
  let v354 : BitVec 32 := Scalar.addi v348 v347
  let v355 : BitVec 32 := Scalar.select v353 v354 v348
  let c8_i32_470 : BitVec 32 := 8#32
  let v362 : BitVec 32 := Scalar.muli v355 c8_i32_470
  let v363 : BitVec 32 := Scalar.subi v361 v362
  let v364 : BitVec 32 := Scalar.maxsi c0_i32_471 v363
  let v365 : BitVec 32 := Scalar.minsi c8_i32_472 v364
  let v366 : BitVec 32 := Scalar.subi v365 c0_i32_474
  let c1_i32_475 : BitVec 32 := 1#32
  let v368 : BitVec 32 := Scalar.divsi v366 c1_i32_475
  let v369 : BitVec 32 := Scalar.muli v368 c1_i32_475
  let v370 : BitVec 32 := Scalar.addi c0_i32_474 v369
  let c1_i32_476 : BitVec 32 := 1#32
  ⟨c0_i32_474, v370, c1_i32_476⟩

def k0_off3504 (v328 : BitVec 32) (v357 : BitVec 32) (k0_t66 : Fin (k0_t66_loop v328 v357).trips) : Fin 2 → Nat :=
  let c0_i32_454 : BitVec 32 := 0#32
  let v330 : BitVec 1 := Scalar.cmpi .sgt v328 c0_i32_454
  let v331 : BitVec 32 := Scalar.extui v330
  let c0_i32_455 : BitVec 32 := 0#32
  let v332 : BitVec 1 := Scalar.cmpi .slt v328 c0_i32_455
  let v333 : BitVec 32 := Scalar.extui v332
  let v334 : BitVec 32 := Scalar.subi v331 v333
  let c16_i32_453 : BitVec 32 := 16#32
  let c0_i32_456 : BitVec 32 := 0#32
  let v335 : BitVec 1 := Scalar.cmpi .sgt c16_i32_453 c0_i32_456
  let v336 : BitVec 32 := Scalar.extui v335
  let c0_i32_457 : BitVec 32 := 0#32
  let v337 : BitVec 1 := Scalar.cmpi .slt c16_i32_453 c0_i32_457
  let v338 : BitVec 32 := Scalar.extui v337
  let v339 : BitVec 32 := Scalar.subi v336 v338
  let v340 : BitVec 1 := Scalar.cmpi .ne v334 v339
  let v341 : BitVec 32 := Scalar.remsi v328 c16_i32_453
  let c0_i32_458 : BitVec 32 := 0#32
  let v342 : BitVec 1 := Scalar.cmpi .ne v341 c0_i32_458
  let v343 : BitVec 1 := Scalar.andi v340 v342
  let v329 : BitVec 32 := Scalar.divsi v328 c16_i32_453
  let c1_i32_459 : BitVec 32 := 1#32
  let v344 : BitVec 32 := Scalar.subi v329 c1_i32_459
  let v345 : BitVec 32 := Scalar.select v343 v344 v329
  let v373 : Index := Scalar.indexCast v345
  let c16_i32_460 : BitVec 32 := 16#32
  let c0_i32_461 : BitVec 32 := 0#32
  let v346 : BitVec 1 := Scalar.cmpi .eq c16_i32_460 c0_i32_461
  let c1_i32_462 : BitVec 32 := 1#32
  let v347 : BitVec 32 := Scalar.select v346 c1_i32_462 c16_i32_460
  let v348 : BitVec 32 := Scalar.remsi v328 v347
  let c0_i32_464 : BitVec 32 := 0#32
  let v350 : BitVec 1 := Scalar.cmpi .slt v348 c0_i32_464
  let c0_i32_465 : BitVec 32 := 0#32
  let v351 : BitVec 1 := Scalar.cmpi .slt v347 c0_i32_465
  let v352 : BitVec 1 := Scalar.xori v350 v351
  let c0_i32_463 : BitVec 32 := 0#32
  let v349 : BitVec 1 := Scalar.cmpi .ne v348 c0_i32_463
  let v353 : BitVec 1 := Scalar.andi v352 v349
  let v354 : BitVec 32 := Scalar.addi v348 v347
  let v355 : BitVec 32 := Scalar.select v353 v354 v348
  let c8_i32_478 : BitVec 32 := 8#32
  let v371 : BitVec 32 := Scalar.muli v355 c8_i32_478
  let c0_i32_474 : BitVec 32 := 0#32
  let c1_i32_476 : BitVec 32 := 1#32
  let arg19 : BitVec 32 := Scf.iv c0_i32_474 c1_i32_476 k0_t66
  let v372 : BitVec 32 := Scalar.addi v371 arg19
  let v374 : Index := Scalar.indexCast v372
  ![v373.toNat, v374.toNat]
def k0_off3505 (v1 : BitVec 32) (k0_t51 : Fin (k0_t51_loop v1).trips) : Fin 2 → Nat :=
  let c1_i32_480 : BitVec 32 := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  ![1, v226.toNat]
def k0_off3506 (v1 : BitVec 32) (k0_t51 : Fin (k0_t51_loop v1).trips) (v328 : BitVec 32) (v357 : BitVec 32) (k0_t66 : Fin (k0_t66_loop v328 v357).trips) : Fin 5 → Nat :=
  let c1_i32_479 : BitVec 32 := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let c0_i32_474 : BitVec 32 := 0#32
  let c1_i32_476 : BitVec 32 := 1#32
  let arg19 : BitVec 32 := Scf.iv c0_i32_474 c1_i32_476 k0_t66
  let c0_i32_481 : BitVec 32 := 0#32
  let c0_i32_482 : BitVec 32 := 0#32
  ![1, v226.toNat, arg19.toNat, 0, 0]
def k0_off3507 (v375 : BitVec 32) : Fin 3 → Nat :=
  let c0_i32_483 : BitVec 32 := 0#32
  let c0_i32_484 : BitVec 32 := 0#32
  ![v375.toNat, 0, 0]

def k0_chk46 (v1 : BitVec 32) (k0_t51 : Fin (k0_t51_loop v1).trips) (v375 : BitVec 32) : Prop :=
  (∀ (k0_h10 : k0_cond10 v1 k0_t51 = 1#1), ∀ a, (k0_off3507 v375) a + S1x1728x128.size a ≤ S1280x1728x128.size a) ∧
  (∀ (k0_h10 : k0_cond10 v1 k0_t51 = 1#1), ∀ (hinb : ∀ a, (k0_off3507 v375) a + S1x1728x128.size a ≤ S1280x1728x128.size a), (Rect.unit (s := S1280x1728x128) (k0_off3507 v375) S1x1728x128.size hinb).WholeWords (EltTy.packing .fp8e4m3))
theorem k0_off3507_inb : ∀ (v1 : BitVec 32) (k0_t51 : Fin (k0_t51_loop v1).trips) (v375 : BitVec 32) (k0_hw46 : k0_chk46 v1 k0_t51 v375), ∀ (k0_h10 : k0_cond10 v1 k0_t51 = 1#1), ∀ a, (k0_off3507 v375) a + S1x1728x128.size a ≤ S1280x1728x128.size a := fun v1 k0_t51 v375 k0_hw46 k0_h10 => k0_hw46.1 k0_h10
theorem k0_off3507_wordsfp8e4m3 : ∀ (v1 : BitVec 32) (k0_t51 : Fin (k0_t51_loop v1).trips) (v375 : BitVec 32) (k0_hw46 : k0_chk46 v1 k0_t51 v375), ∀ (k0_h10 : k0_cond10 v1 k0_t51 = 1#1), (Rect.unit (s := S1280x1728x128) (k0_off3507 v375) S1x1728x128.size (k0_off3507_inb v1 k0_t51 v375 k0_hw46 k0_h10)).WholeWords (EltTy.packing .fp8e4m3) := fun v1 k0_t51 v375 k0_hw46 k0_h10 => k0_hw46.2 k0_h10 (k0_off3507_inb v1 k0_t51 v375 k0_hw46 k0_h10)

@[reducible] def k0_t67_loop (v328 : BitVec 32) (v357 : BitVec 32) : Scf.Loop 32 :=
  let c0_i32_474 : BitVec 32 := 0#32
  let c8_i32_472 : BitVec 32 := 8#32
  let c0_i32_471 : BitVec 32 := 0#32
  let c2048_i32_467 : BitVec 32 := 2048#32
  let c0_i32_466 : BitVec 32 := 0#32
  let v358 : BitVec 32 := Scalar.maxsi c0_i32_466 v357
  let v359 : BitVec 32 := Scalar.minsi c2048_i32_467 v358
  let c15_i32_468 : BitVec 32 := 15#32
  let v360 : BitVec 32 := Scalar.addi v359 c15_i32_468
  let c16_i32_469 : BitVec 32 := 16#32
  let v361 : BitVec 32 := Scalar.divsi v360 c16_i32_469
  let c16_i32_460 : BitVec 32 := 16#32
  let c0_i32_461 : BitVec 32 := 0#32
  let v346 : BitVec 1 := Scalar.cmpi .eq c16_i32_460 c0_i32_461
  let c1_i32_462 : BitVec 32 := 1#32
  let v347 : BitVec 32 := Scalar.select v346 c1_i32_462 c16_i32_460
  let v348 : BitVec 32 := Scalar.remsi v328 v347
  let c0_i32_464 : BitVec 32 := 0#32
  let v350 : BitVec 1 := Scalar.cmpi .slt v348 c0_i32_464
  let c0_i32_465 : BitVec 32 := 0#32
  let v351 : BitVec 1 := Scalar.cmpi .slt v347 c0_i32_465
  let v352 : BitVec 1 := Scalar.xori v350 v351
  let c0_i32_463 : BitVec 32 := 0#32
  let v349 : BitVec 1 := Scalar.cmpi .ne v348 c0_i32_463
  let v353 : BitVec 1 := Scalar.andi v352 v349
  let v354 : BitVec 32 := Scalar.addi v348 v347
  let v355 : BitVec 32 := Scalar.select v353 v354 v348
  let c8_i32_470 : BitVec 32 := 8#32
  let v362 : BitVec 32 := Scalar.muli v355 c8_i32_470
  let v363 : BitVec 32 := Scalar.subi v361 v362
  let v364 : BitVec 32 := Scalar.maxsi c0_i32_471 v363
  let v365 : BitVec 32 := Scalar.minsi c8_i32_472 v364
  let v366 : BitVec 32 := Scalar.subi v365 c0_i32_474
  let c1_i32_475 : BitVec 32 := 1#32
  let v368 : BitVec 32 := Scalar.divsi v366 c1_i32_475
  let v369 : BitVec 32 := Scalar.muli v368 c1_i32_475
  let v370 : BitVec 32 := Scalar.addi c0_i32_474 v369
  let v367 : BitVec 32 := Scalar.addi c0_i32_474 v366
  let c1_i32_477 : BitVec 32 := 1#32
  ⟨v370, v367, c1_i32_477⟩
def k0_off3508 (v328 : BitVec 32) (v357 : BitVec 32) (k0_t67 : Fin (k0_t67_loop v328 v357).trips) : Fin 2 → Nat :=
  let c0_i32_454 : BitVec 32 := 0#32
  let v330 : BitVec 1 := Scalar.cmpi .sgt v328 c0_i32_454
  let v331 : BitVec 32 := Scalar.extui v330
  let c0_i32_455 : BitVec 32 := 0#32
  let v332 : BitVec 1 := Scalar.cmpi .slt v328 c0_i32_455
  let v333 : BitVec 32 := Scalar.extui v332
  let v334 : BitVec 32 := Scalar.subi v331 v333
  let c16_i32_453 : BitVec 32 := 16#32
  let c0_i32_456 : BitVec 32 := 0#32
  let v335 : BitVec 1 := Scalar.cmpi .sgt c16_i32_453 c0_i32_456
  let v336 : BitVec 32 := Scalar.extui v335
  let c0_i32_457 : BitVec 32 := 0#32
  let v337 : BitVec 1 := Scalar.cmpi .slt c16_i32_453 c0_i32_457
  let v338 : BitVec 32 := Scalar.extui v337
  let v339 : BitVec 32 := Scalar.subi v336 v338
  let v340 : BitVec 1 := Scalar.cmpi .ne v334 v339
  let v341 : BitVec 32 := Scalar.remsi v328 c16_i32_453
  let c0_i32_458 : BitVec 32 := 0#32
  let v342 : BitVec 1 := Scalar.cmpi .ne v341 c0_i32_458
  let v343 : BitVec 1 := Scalar.andi v340 v342
  let v329 : BitVec 32 := Scalar.divsi v328 c16_i32_453
  let c1_i32_459 : BitVec 32 := 1#32
  let v344 : BitVec 32 := Scalar.subi v329 c1_i32_459
  let v345 : BitVec 32 := Scalar.select v343 v344 v329
  let v373 : Index := Scalar.indexCast v345
  let c16_i32_460 : BitVec 32 := 16#32
  let c0_i32_461 : BitVec 32 := 0#32
  let v346 : BitVec 1 := Scalar.cmpi .eq c16_i32_460 c0_i32_461
  let c1_i32_462 : BitVec 32 := 1#32
  let v347 : BitVec 32 := Scalar.select v346 c1_i32_462 c16_i32_460
  let v348 : BitVec 32 := Scalar.remsi v328 v347
  let c0_i32_464 : BitVec 32 := 0#32
  let v350 : BitVec 1 := Scalar.cmpi .slt v348 c0_i32_464
  let c0_i32_465 : BitVec 32 := 0#32
  let v351 : BitVec 1 := Scalar.cmpi .slt v347 c0_i32_465
  let v352 : BitVec 1 := Scalar.xori v350 v351
  let c0_i32_463 : BitVec 32 := 0#32
  let v349 : BitVec 1 := Scalar.cmpi .ne v348 c0_i32_463
  let v353 : BitVec 1 := Scalar.andi v352 v349
  let v354 : BitVec 32 := Scalar.addi v348 v347
  let v355 : BitVec 32 := Scalar.select v353 v354 v348
  let c8_i32_478 : BitVec 32 := 8#32
  let v371 : BitVec 32 := Scalar.muli v355 c8_i32_478
  let c0_i32_474 : BitVec 32 := 0#32
  let c8_i32_472 : BitVec 32 := 8#32
  let c0_i32_471 : BitVec 32 := 0#32
  let c2048_i32_467 : BitVec 32 := 2048#32
  let c0_i32_466 : BitVec 32 := 0#32
  let v358 : BitVec 32 := Scalar.maxsi c0_i32_466 v357
  let v359 : BitVec 32 := Scalar.minsi c2048_i32_467 v358
  let c15_i32_468 : BitVec 32 := 15#32
  let v360 : BitVec 32 := Scalar.addi v359 c15_i32_468
  let c16_i32_469 : BitVec 32 := 16#32
  let v361 : BitVec 32 := Scalar.divsi v360 c16_i32_469
  let c8_i32_470 : BitVec 32 := 8#32
  let v362 : BitVec 32 := Scalar.muli v355 c8_i32_470
  let v363 : BitVec 32 := Scalar.subi v361 v362
  let v364 : BitVec 32 := Scalar.maxsi c0_i32_471 v363
  let v365 : BitVec 32 := Scalar.minsi c8_i32_472 v364
  let v366 : BitVec 32 := Scalar.subi v365 c0_i32_474
  let c1_i32_475 : BitVec 32 := 1#32
  let v368 : BitVec 32 := Scalar.divsi v366 c1_i32_475
  let v369 : BitVec 32 := Scalar.muli v368 c1_i32_475
  let v370 : BitVec 32 := Scalar.addi c0_i32_474 v369
  let c1_i32_477 : BitVec 32 := 1#32
  let arg19 : BitVec 32 := Scf.iv v370 c1_i32_477 k0_t67
  let v372 : BitVec 32 := Scalar.addi v371 arg19
  let v374 : Index := Scalar.indexCast v372
  ![v373.toNat, v374.toNat]
def k0_off3509 (v1 : BitVec 32) (k0_t51 : Fin (k0_t51_loop v1).trips) : Fin 2 → Nat :=
  let c1_i32_480 : BitVec 32 := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  ![1, v226.toNat]
def k0_off3510 (v1 : BitVec 32) (k0_t51 : Fin (k0_t51_loop v1).trips) (v328 : BitVec 32) (v357 : BitVec 32) (k0_t67 : Fin (k0_t67_loop v328 v357).trips) : Fin 5 → Nat :=
  let c1_i32_479 : BitVec 32 := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let c0_i32_474 : BitVec 32 := 0#32
  let c8_i32_472 : BitVec 32 := 8#32
  let c0_i32_471 : BitVec 32 := 0#32
  let c2048_i32_467 : BitVec 32 := 2048#32
  let c0_i32_466 : BitVec 32 := 0#32
  let v358 : BitVec 32 := Scalar.maxsi c0_i32_466 v357
  let v359 : BitVec 32 := Scalar.minsi c2048_i32_467 v358
  let c15_i32_468 : BitVec 32 := 15#32
  let v360 : BitVec 32 := Scalar.addi v359 c15_i32_468
  let c16_i32_469 : BitVec 32 := 16#32
  let v361 : BitVec 32 := Scalar.divsi v360 c16_i32_469
  let c16_i32_460 : BitVec 32 := 16#32
  let c0_i32_461 : BitVec 32 := 0#32
  let v346 : BitVec 1 := Scalar.cmpi .eq c16_i32_460 c0_i32_461
  let c1_i32_462 : BitVec 32 := 1#32
  let v347 : BitVec 32 := Scalar.select v346 c1_i32_462 c16_i32_460
  let v348 : BitVec 32 := Scalar.remsi v328 v347
  let c0_i32_464 : BitVec 32 := 0#32
  let v350 : BitVec 1 := Scalar.cmpi .slt v348 c0_i32_464
  let c0_i32_465 : BitVec 32 := 0#32
  let v351 : BitVec 1 := Scalar.cmpi .slt v347 c0_i32_465
  let v352 : BitVec 1 := Scalar.xori v350 v351
  let c0_i32_463 : BitVec 32 := 0#32
  let v349 : BitVec 1 := Scalar.cmpi .ne v348 c0_i32_463
  let v353 : BitVec 1 := Scalar.andi v352 v349
  let v354 : BitVec 32 := Scalar.addi v348 v347
  let v355 : BitVec 32 := Scalar.select v353 v354 v348
  let c8_i32_470 : BitVec 32 := 8#32
  let v362 : BitVec 32 := Scalar.muli v355 c8_i32_470
  let v363 : BitVec 32 := Scalar.subi v361 v362
  let v364 : BitVec 32 := Scalar.maxsi c0_i32_471 v363
  let v365 : BitVec 32 := Scalar.minsi c8_i32_472 v364
  let v366 : BitVec 32 := Scalar.subi v365 c0_i32_474
  let c1_i32_475 : BitVec 32 := 1#32
  let v368 : BitVec 32 := Scalar.divsi v366 c1_i32_475
  let v369 : BitVec 32 := Scalar.muli v368 c1_i32_475
  let v370 : BitVec 32 := Scalar.addi c0_i32_474 v369
  let c1_i32_477 : BitVec 32 := 1#32
  let arg19 : BitVec 32 := Scf.iv v370 c1_i32_477 k0_t67
  let c0_i32_481 : BitVec 32 := 0#32
  let c0_i32_482 : BitVec 32 := 0#32
  ![1, v226.toNat, arg19.toNat, 0, 0]
def k0_off3511 (v375 : BitVec 32) : Fin 3 → Nat :=
  let c0_i32_483 : BitVec 32 := 0#32
  let c0_i32_484 : BitVec 32 := 0#32
  ![v375.toNat, 0, 0]

def k0_chk47 (v1 : BitVec 32) (k0_t51 : Fin (k0_t51_loop v1).trips) (v375 : BitVec 32) : Prop :=
  (∀ (k0_h10 : k0_cond10 v1 k0_t51 = 1#1), ∀ a, (k0_off3511 v375) a + S1x1728x128.size a ≤ S1280x1728x128.size a) ∧
  (∀ (k0_h10 : k0_cond10 v1 k0_t51 = 1#1), ∀ (hinb : ∀ a, (k0_off3511 v375) a + S1x1728x128.size a ≤ S1280x1728x128.size a), (Rect.unit (s := S1280x1728x128) (k0_off3511 v375) S1x1728x128.size hinb).WholeWords (EltTy.packing .fp8e4m3))
theorem k0_off3511_inb : ∀ (v1 : BitVec 32) (k0_t51 : Fin (k0_t51_loop v1).trips) (v375 : BitVec 32) (k0_hw47 : k0_chk47 v1 k0_t51 v375), ∀ (k0_h10 : k0_cond10 v1 k0_t51 = 1#1), ∀ a, (k0_off3511 v375) a + S1x1728x128.size a ≤ S1280x1728x128.size a := fun v1 k0_t51 v375 k0_hw47 k0_h10 => k0_hw47.1 k0_h10
theorem k0_off3511_wordsfp8e4m3 : ∀ (v1 : BitVec 32) (k0_t51 : Fin (k0_t51_loop v1).trips) (v375 : BitVec 32) (k0_hw47 : k0_chk47 v1 k0_t51 v375), ∀ (k0_h10 : k0_cond10 v1 k0_t51 = 1#1), (Rect.unit (s := S1280x1728x128) (k0_off3511 v375) S1x1728x128.size (k0_off3511_inb v1 k0_t51 v375 k0_hw47 k0_h10)).WholeWords (EltTy.packing .fp8e4m3) := fun v1 k0_t51 v375 k0_hw47 k0_h10 => k0_hw47.2 k0_h10 (k0_off3511_inb v1 k0_t51 v375 k0_hw47 k0_h10)

def k0_chk45 (v1 : BitVec 32) (k0_t51 : Fin (k0_t51_loop v1).trips) (v328 : BitVec 32) (v357 : BitVec 32) : Prop :=
  (∀ (k0_h10 : k0_cond10 v1 k0_t51 = 1#1), (k0_t66_loop v328 v357).OK) ∧
  (∀ k0_t66 : Fin (k0_t66_loop v328 v357).trips, ∀ (k0_h10 : k0_cond10 v1 k0_t51 = 1#1), ∀ a, (k0_off3504 v328 v357 k0_t66) a + S1x1.size a ≤ S8x128.size a) ∧
  (∀ k0_t66 : Fin (k0_t66_loop v328 v357).trips, ∀ (k0_h10 : k0_cond10 v1 k0_t51 = 1#1), ∀ a, (k0_off3505 v1 k0_t51) a + S1x1.size a ≤ S2x2.size a) ∧
  (∀ k0_t66 : Fin (k0_t66_loop v328 v357).trips, ∀ (k0_h10 : k0_cond10 v1 k0_t51 = 1#1), ∀ a, (k0_off3506 v1 k0_t51 v328 v357 k0_t66) a + S1x1x1x1728x128.size a ≤ S2x2x8x1728x128.size a) ∧
  (∀ k0_t66 : Fin (k0_t66_loop v328 v357).trips, ∀ (k0_h10 : k0_cond10 v1 k0_t51 = 1#1), ∀ (hinb : ∀ a, (k0_off3506 v1 k0_t51 v328 v357 k0_t66) a + S1x1x1x1728x128.size a ≤ S2x2x8x1728x128.size a), (Rect.unit (s := S2x2x8x1728x128) (k0_off3506 v1 k0_t51 v328 v357 k0_t66) S1x1x1x1728x128.size hinb).WholeWords (EltTy.packing .fp8e4m3)) ∧
  (∀ (k0_h10 : k0_cond10 v1 k0_t51 = 1#1), (k0_t67_loop v328 v357).OK) ∧
  (∀ k0_t67 : Fin (k0_t67_loop v328 v357).trips, ∀ (k0_h10 : k0_cond10 v1 k0_t51 = 1#1), ∀ a, (k0_off3508 v328 v357 k0_t67) a + S1x1.size a ≤ S8x128.size a) ∧
  (∀ k0_t67 : Fin (k0_t67_loop v328 v357).trips, ∀ (k0_h10 : k0_cond10 v1 k0_t51 = 1#1), ∀ a, (k0_off3509 v1 k0_t51) a + S1x1.size a ≤ S2x2.size a) ∧
  (∀ k0_t67 : Fin (k0_t67_loop v328 v357).trips, ∀ (k0_h10 : k0_cond10 v1 k0_t51 = 1#1), ∀ a, (k0_off3510 v1 k0_t51 v328 v357 k0_t67) a + S1x1x1x1728x128.size a ≤ S2x2x8x1728x128.size a) ∧
  (∀ k0_t67 : Fin (k0_t67_loop v328 v357).trips, ∀ (k0_h10 : k0_cond10 v1 k0_t51 = 1#1), ∀ (hinb : ∀ a, (k0_off3510 v1 k0_t51 v328 v357 k0_t67) a + S1x1x1x1728x128.size a ≤ S2x2x8x1728x128.size a), (Rect.unit (s := S2x2x8x1728x128) (k0_off3510 v1 k0_t51 v328 v357 k0_t67) S1x1x1x1728x128.size hinb).WholeWords (EltTy.packing .fp8e4m3))
theorem k0_t66_ok : ∀ (v1 : BitVec 32) (k0_t51 : Fin (k0_t51_loop v1).trips) (v328 : BitVec 32) (v357 : BitVec 32) (k0_hw45 : k0_chk45 v1 k0_t51 v328 v357), ∀ (k0_h10 : k0_cond10 v1 k0_t51 = 1#1), (k0_t66_loop v328 v357).OK := fun v1 k0_t51 v328 v357 k0_hw45 k0_h10 => k0_hw45.1 k0_h10
theorem k0_off3504_inb : ∀ (v1 : BitVec 32) (k0_t51 : Fin (k0_t51_loop v1).trips) (v328 : BitVec 32) (v357 : BitVec 32) (k0_hw45 : k0_chk45 v1 k0_t51 v328 v357) (k0_t66 : Fin (k0_t66_loop v328 v357).trips), ∀ (k0_h10 : k0_cond10 v1 k0_t51 = 1#1), ∀ a, (k0_off3504 v328 v357 k0_t66) a + S1x1.size a ≤ S8x128.size a := fun v1 k0_t51 v328 v357 k0_hw45 k0_t66 k0_h10 => k0_hw45.2.1 k0_t66 k0_h10
theorem k0_off3505_inb : ∀ (v1 : BitVec 32) (k0_t51 : Fin (k0_t51_loop v1).trips) (v328 : BitVec 32) (v357 : BitVec 32) (k0_hw45 : k0_chk45 v1 k0_t51 v328 v357) (k0_t66 : Fin (k0_t66_loop v328 v357).trips), ∀ (k0_h10 : k0_cond10 v1 k0_t51 = 1#1), ∀ a, (k0_off3505 v1 k0_t51) a + S1x1.size a ≤ S2x2.size a := fun v1 k0_t51 v328 v357 k0_hw45 k0_t66 k0_h10 => k0_hw45.2.2.1 k0_t66 k0_h10
theorem k0_off3506_inb : ∀ (v1 : BitVec 32) (k0_t51 : Fin (k0_t51_loop v1).trips) (v328 : BitVec 32) (v357 : BitVec 32) (k0_hw45 : k0_chk45 v1 k0_t51 v328 v357) (k0_t66 : Fin (k0_t66_loop v328 v357).trips), ∀ (k0_h10 : k0_cond10 v1 k0_t51 = 1#1), ∀ a, (k0_off3506 v1 k0_t51 v328 v357 k0_t66) a + S1x1x1x1728x128.size a ≤ S2x2x8x1728x128.size a := fun v1 k0_t51 v328 v357 k0_hw45 k0_t66 k0_h10 => k0_hw45.2.2.2.1 k0_t66 k0_h10
theorem k0_off3506_wordsfp8e4m3 : ∀ (v1 : BitVec 32) (k0_t51 : Fin (k0_t51_loop v1).trips) (v328 : BitVec 32) (v357 : BitVec 32) (k0_hw45 : k0_chk45 v1 k0_t51 v328 v357) (k0_t66 : Fin (k0_t66_loop v328 v357).trips), ∀ (k0_h10 : k0_cond10 v1 k0_t51 = 1#1), (Rect.unit (s := S2x2x8x1728x128) (k0_off3506 v1 k0_t51 v328 v357 k0_t66) S1x1x1x1728x128.size (k0_off3506_inb v1 k0_t51 v328 v357 k0_hw45 k0_t66 k0_h10)).WholeWords (EltTy.packing .fp8e4m3) := fun v1 k0_t51 v328 v357 k0_hw45 k0_t66 k0_h10 => k0_hw45.2.2.2.2.1 k0_t66 k0_h10 (k0_off3506_inb v1 k0_t51 v328 v357 k0_hw45 k0_t66 k0_h10)
theorem k0_t67_ok : ∀ (v1 : BitVec 32) (k0_t51 : Fin (k0_t51_loop v1).trips) (v328 : BitVec 32) (v357 : BitVec 32) (k0_hw45 : k0_chk45 v1 k0_t51 v328 v357), ∀ (k0_h10 : k0_cond10 v1 k0_t51 = 1#1), (k0_t67_loop v328 v357).OK := fun v1 k0_t51 v328 v357 k0_hw45 k0_h10 => k0_hw45.2.2.2.2.2.1 k0_h10
theorem k0_off3508_inb : ∀ (v1 : BitVec 32) (k0_t51 : Fin (k0_t51_loop v1).trips) (v328 : BitVec 32) (v357 : BitVec 32) (k0_hw45 : k0_chk45 v1 k0_t51 v328 v357) (k0_t67 : Fin (k0_t67_loop v328 v357).trips), ∀ (k0_h10 : k0_cond10 v1 k0_t51 = 1#1), ∀ a, (k0_off3508 v328 v357 k0_t67) a + S1x1.size a ≤ S8x128.size a := fun v1 k0_t51 v328 v357 k0_hw45 k0_t67 k0_h10 => k0_hw45.2.2.2.2.2.2.1 k0_t67 k0_h10
theorem k0_off3509_inb : ∀ (v1 : BitVec 32) (k0_t51 : Fin (k0_t51_loop v1).trips) (v328 : BitVec 32) (v357 : BitVec 32) (k0_hw45 : k0_chk45 v1 k0_t51 v328 v357) (k0_t67 : Fin (k0_t67_loop v328 v357).trips), ∀ (k0_h10 : k0_cond10 v1 k0_t51 = 1#1), ∀ a, (k0_off3509 v1 k0_t51) a + S1x1.size a ≤ S2x2.size a := fun v1 k0_t51 v328 v357 k0_hw45 k0_t67 k0_h10 => k0_hw45.2.2.2.2.2.2.2.1 k0_t67 k0_h10
theorem k0_off3510_inb : ∀ (v1 : BitVec 32) (k0_t51 : Fin (k0_t51_loop v1).trips) (v328 : BitVec 32) (v357 : BitVec 32) (k0_hw45 : k0_chk45 v1 k0_t51 v328 v357) (k0_t67 : Fin (k0_t67_loop v328 v357).trips), ∀ (k0_h10 : k0_cond10 v1 k0_t51 = 1#1), ∀ a, (k0_off3510 v1 k0_t51 v328 v357 k0_t67) a + S1x1x1x1728x128.size a ≤ S2x2x8x1728x128.size a := fun v1 k0_t51 v328 v357 k0_hw45 k0_t67 k0_h10 => k0_hw45.2.2.2.2.2.2.2.2.1 k0_t67 k0_h10
theorem k0_off3510_wordsfp8e4m3 : ∀ (v1 : BitVec 32) (k0_t51 : Fin (k0_t51_loop v1).trips) (v328 : BitVec 32) (v357 : BitVec 32) (k0_hw45 : k0_chk45 v1 k0_t51 v328 v357) (k0_t67 : Fin (k0_t67_loop v328 v357).trips), ∀ (k0_h10 : k0_cond10 v1 k0_t51 = 1#1), (Rect.unit (s := S2x2x8x1728x128) (k0_off3510 v1 k0_t51 v328 v357 k0_t67) S1x1x1x1728x128.size (k0_off3510_inb v1 k0_t51 v328 v357 k0_hw45 k0_t67 k0_h10)).WholeWords (EltTy.packing .fp8e4m3) := fun v1 k0_t51 v328 v357 k0_hw45 k0_t67 k0_h10 => k0_hw45.2.2.2.2.2.2.2.2.2 k0_t67 k0_h10 (k0_off3510_inb v1 k0_t51 v328 v357 k0_hw45 k0_t67 k0_h10)

def k0_mult28 (v228 : BitVec 32) : BitVec 32 :=
  let c16_i32_387 : BitVec 32 := 16#32
  let c0_i32_388 : BitVec 32 := 0#32
  let v246 : BitVec 1 := Scalar.cmpi .eq c16_i32_387 c0_i32_388
  let c1_i32_389 : BitVec 32 := 1#32
  let v247 : BitVec 32 := Scalar.select v246 c1_i32_389 c16_i32_387
  let v248 : BitVec 32 := Scalar.remsi v228 v247
  let c0_i32_391 : BitVec 32 := 0#32
  let v250 : BitVec 1 := Scalar.cmpi .slt v248 c0_i32_391
  let c0_i32_392 : BitVec 32 := 0#32
  let v251 : BitVec 1 := Scalar.cmpi .slt v247 c0_i32_392
  let v252 : BitVec 1 := Scalar.xori v250 v251
  let c0_i32_390 : BitVec 32 := 0#32
  let v249 : BitVec 1 := Scalar.cmpi .ne v248 c0_i32_390
  let v253 : BitVec 1 := Scalar.andi v252 v249
  let v254 : BitVec 32 := Scalar.addi v248 v247
  let v255 : BitVec 32 := Scalar.select v253 v254 v248
  let c128_i32_444 : BitVec 32 := 128#32
  let v318 : BitVec 32 := Scalar.muli v255 c128_i32_444
  v318

def k0_chk34 (v228 : BitVec 32) : Prop :=
  (∀ a, (k0_off1956 v228) a + S1.size a ≤ S8.size a) ∧
  (128 ∣ (k0_mult22 v228).toNat) ∧
  (∀ a, (k0_off2734 v228) a + S1x108x128x128.size a ≤ S8x108x2048x128.size a) ∧
  (∀ (hinb : ∀ a, (k0_off2734 v228) a + S1x108x128x128.size a ≤ S8x108x2048x128.size a), (Rect.unit (s := S8x108x2048x128) (k0_off2734 v228) S1x108x128x128.size hinb).WholeWords (EltTy.packing .bf16)) ∧
  (128 ∣ (k0_mult28 v228).toNat)
theorem k0_off1956_inb : ∀ (v228 : BitVec 32) (k0_hw34 : k0_chk34 v228), ∀ a, (k0_off1956 v228) a + S1.size a ≤ S8.size a := fun v228 k0_hw34 => k0_hw34.1
theorem k0_mult22_dvd : ∀ (v228 : BitVec 32) (k0_hw34 : k0_chk34 v228), 128 ∣ (k0_mult22 v228).toNat := fun v228 k0_hw34 => k0_hw34.2.1
theorem k0_off2734_inb : ∀ (v228 : BitVec 32) (k0_hw34 : k0_chk34 v228), ∀ a, (k0_off2734 v228) a + S1x108x128x128.size a ≤ S8x108x2048x128.size a := fun v228 k0_hw34 => k0_hw34.2.2.1
theorem k0_off2734_wordsbf16 : ∀ (v228 : BitVec 32) (k0_hw34 : k0_chk34 v228), (Rect.unit (s := S8x108x2048x128) (k0_off2734 v228) S1x108x128x128.size (k0_off2734_inb v228 k0_hw34)).WholeWords (EltTy.packing .bf16) := fun v228 k0_hw34 => k0_hw34.2.2.2.1 (k0_off2734_inb v228 k0_hw34)
theorem k0_mult28_dvd : ∀ (v228 : BitVec 32) (k0_hw34 : k0_chk34 v228), 128 ∣ (k0_mult28 v228).toNat := fun v228 k0_hw34 => k0_hw34.2.2.2.2

def k0_off3512 (v1 : BitVec 32) (k0_t51 : Fin (k0_t51_loop v1).trips) : Fin 2 → Nat :=
  let c1_i32_446 : BitVec 32 := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  ![1, v226.toNat]
def k0_off3513 (v1 : BitVec 32) (k0_t51 : Fin (k0_t51_loop v1).trips) : Fin 5 → Nat :=
  let c1_i32_445 : BitVec 32 := 1#32
  let c0_i32_367 : BitVec 32 := 0#32
  let v208 : BitVec 32 := Scalar.subi v1 c0_i32_367
  let c1_i32_368 : BitVec 32 := 1#32
  let v210 : BitVec 32 := Scalar.divsi v208 c1_i32_368
  let v211 : BitVec 32 := Scalar.muli v210 c1_i32_368
  let v212 : BitVec 32 := Scalar.addi c0_i32_367 v211
  let c1_i32_370 : BitVec 32 := 1#32
  let arg18 : BitVec 32 := Scf.iv v212 c1_i32_370 k0_t51
  let c2_i32_380 : BitVec 32 := 2#32
  let v226 : BitVec 32 := Scalar.remsi arg18 c2_i32_380
  let c0_i32_449 : BitVec 32 := 0#32
  let c0_i32_450 : BitVec 32 := 0#32
  let c0_i32_451 : BitVec 32 := 0#32
  ![1, v226.toNat, 0, 0, 0]
def k0_mult29 : BitVec 32 :=
  let c0_i32_382 : BitVec 32 := 0#32
  c0_i32_382
def k0_off3514 (v1 : BitVec 32) : Fin 2 → Nat :=
  let c0_i32_385 : BitVec 32 := 0#32
  let c2_i32_380 : BitVec 32 := 2#32
  let v226 : BitVec 32 := Scalar.subi v1 c2_i32_380
  let c2_i32_381 : BitVec 32 := 2#32
  let v227 : BitVec 32 := Scalar.remsi v226 c2_i32_381
  ![0, v227.toNat]
def k0_cond11 (v1 : BitVec 32) : BitVec 1 :=
  let c2_i32 : BitVec 32 := 2#32
  let v213 : BitVec 1 := Scalar.cmpi .sge v1 c2_i32
  let v214 : BitVec 32 := Scalar.extui v213
  let c0_i32_371 : BitVec 32 := 0#32
  let v215 : BitVec 1 := Scalar.cmpi .ne v214 c0_i32_371
  v215

def k0_off3515 (v1 : BitVec 32) : Fin 5 → Nat :=
  let c0_i32_383 : BitVec 32 := 0#32
  let c2_i32_380 : BitVec 32 := 2#32
  let v226 : BitVec 32 := Scalar.subi v1 c2_i32_380
  let c2_i32_381 : BitVec 32 := 2#32
  let v227 : BitVec 32 := Scalar.remsi v226 c2_i32_381
  let c0_i32_388 : BitVec 32 := 0#32
  let c0_i32_389 : BitVec 32 := 0#32
  let c0_i32_390 : BitVec 32 := 0#32
  ![0, v227.toNat, 0, 0, 0]
def k0_mult30 : BitVec 32 :=
  let c0_i32_393 : BitVec 32 := 0#32
  c0_i32_393
def k0_off3516 (v1 : BitVec 32) : Fin 2 → Nat :=
  let c1_i32_396 : BitVec 32 := 1#32
  let c2_i32_391 : BitVec 32 := 2#32
  let v235 : BitVec 32 := Scalar.subi v1 c2_i32_391
  let c2_i32_392 : BitVec 32 := 2#32
  let v236 : BitVec 32 := Scalar.remsi v235 c2_i32_392
  ![1, v236.toNat]
def k0_off3517 (v1 : BitVec 32) : Fin 5 → Nat :=
  let c1_i32_394 : BitVec 32 := 1#32
  let c2_i32_391 : BitVec 32 := 2#32
  let v235 : BitVec 32 := Scalar.subi v1 c2_i32_391
  let c2_i32_392 : BitVec 32 := 2#32
  let v236 : BitVec 32 := Scalar.remsi v235 c2_i32_392
  let c0_i32_399 : BitVec 32 := 0#32
  let c0_i32_400 : BitVec 32 := 0#32
  let c0_i32_401 : BitVec 32 := 0#32
  ![1, v236.toNat, 0, 0, 0]
def k0_mult31 : BitVec 32 :=
  let c0_i32_382 : BitVec 32 := 0#32
  c0_i32_382
def k0_off3518 (v1 : BitVec 32) : Fin 2 → Nat :=
  let c0_i32_385 : BitVec 32 := 0#32
  let c1_i32_380 : BitVec 32 := 1#32
  let v226 : BitVec 32 := Scalar.subi v1 c1_i32_380
  let c2_i32_381 : BitVec 32 := 2#32
  let v227 : BitVec 32 := Scalar.remsi v226 c2_i32_381
  ![0, v227.toNat]
def k0_cond12 (v1 : BitVec 32) : BitVec 1 :=
  let c1_i32_372 : BitVec 32 := 1#32
  let v216 : BitVec 1 := Scalar.cmpi .sge v1 c1_i32_372
  let v217 : BitVec 32 := Scalar.extui v216
  let c0_i32_373 : BitVec 32 := 0#32
  let v218 : BitVec 1 := Scalar.cmpi .ne v217 c0_i32_373
  v218

def k0_off3519 (v1 : BitVec 32) : Fin 5 → Nat :=
  let c0_i32_383 : BitVec 32 := 0#32
  let c1_i32_380 : BitVec 32 := 1#32
  let v226 : BitVec 32 := Scalar.subi v1 c1_i32_380
  let c2_i32_381 : BitVec 32 := 2#32
  let v227 : BitVec 32 := Scalar.remsi v226 c2_i32_381
  let c0_i32_388 : BitVec 32 := 0#32
  let c0_i32_389 : BitVec 32 := 0#32
  let c0_i32_390 : BitVec 32 := 0#32
  ![0, v227.toNat, 0, 0, 0]
def k0_mult32 : BitVec 32 :=
  let c0_i32_393 : BitVec 32 := 0#32
  c0_i32_393
def k0_off3520 (v1 : BitVec 32) : Fin 2 → Nat :=
  let c1_i32_396 : BitVec 32 := 1#32
  let c1_i32_391 : BitVec 32 := 1#32
  let v235 : BitVec 32 := Scalar.subi v1 c1_i32_391
  let c2_i32_392 : BitVec 32 := 2#32
  let v236 : BitVec 32 := Scalar.remsi v235 c2_i32_392
  ![1, v236.toNat]
def k0_off3521 (v1 : BitVec 32) : Fin 5 → Nat :=
  let c1_i32_394 : BitVec 32 := 1#32
  let c1_i32_391 : BitVec 32 := 1#32
  let v235 : BitVec 32 := Scalar.subi v1 c1_i32_391
  let c2_i32_392 : BitVec 32 := 2#32
  let v236 : BitVec 32 := Scalar.remsi v235 c2_i32_392
  let c0_i32_399 : BitVec 32 := 0#32
  let c0_i32_400 : BitVec 32 := 0#32
  let c0_i32_401 : BitVec 32 := 0#32
  ![1, v236.toNat, 0, 0, 0]
@[reducible] def k0_t68_loop (v1 : BitVec 32) : Scf.Loop 32 :=
  let c0_i32_376 : BitVec 32 := 0#32
  let c2_i32_374 : BitVec 32 := 2#32
  let c128_i32 : BitVec 32 := 128#32
  let v219 : BitVec 32 := Scalar.subi c128_i32 v1
  let v220 : BitVec 32 := Scalar.muli c2_i32_374 v219
  let v221 : BitVec 32 := Scalar.subi v220 c0_i32_376
  let c1_i32_377 : BitVec 32 := 1#32
  let v223 : BitVec 32 := Scalar.divsi v221 c1_i32_377
  let v224 : BitVec 32 := Scalar.muli v223 c1_i32_377
  let v225 : BitVec 32 := Scalar.addi c0_i32_376 v224
  let c1_i32_378 : BitVec 32 := 1#32
  ⟨c0_i32_376, v225, c1_i32_378⟩
def k0_mult33 : BitVec 32 :=
  let c0_i32_380 : BitVec 32 := 0#32
  c0_i32_380
@[reducible] def k0_t69_loop (v1 : BitVec 32) : Scf.Loop 32 :=
  let c0_i32_376 : BitVec 32 := 0#32
  let c2_i32_374 : BitVec 32 := 2#32
  let c128_i32 : BitVec 32 := 128#32
  let v219 : BitVec 32 := Scalar.subi c128_i32 v1
  let v220 : BitVec 32 := Scalar.muli c2_i32_374 v219
  let v221 : BitVec 32 := Scalar.subi v220 c0_i32_376
  let c1_i32_377 : BitVec 32 := 1#32
  let v223 : BitVec 32 := Scalar.divsi v221 c1_i32_377
  let v224 : BitVec 32 := Scalar.muli v223 c1_i32_377
  let v225 : BitVec 32 := Scalar.addi c0_i32_376 v224
  let v222 : BitVec 32 := Scalar.addi c0_i32_376 v221
  let c1_i32_379 : BitVec 32 := 1#32
  ⟨v225, v222, c1_i32_379⟩

def k0_chk19_0 (v1 : BitVec 32) : Prop :=
  ((k0_t34_loop v1).OK) ∧
  (∀ k0_t34 : Fin (k0_t34_loop v1).trips, ∀ a, (k0_off396 v1 k0_t34) a + S1.size a ≤ S128.size a) ∧
  (∀ k0_t34 : Fin (k0_t34_loop v1).trips, ∀ (k0_h3 : k0_cond3 v1 k0_t34 = 1#1), 128 ∣ k0_mult5.toNat) ∧
  (∀ k0_t34 : Fin (k0_t34_loop v1).trips, ∀ (k0_h3 : k0_cond3 v1 k0_t34 = 1#1), ∀ a, (k0_off402 v1 k0_t34) a + S1x1.size a ≤ S2x2.size a) ∧
  (∀ k0_t34 : Fin (k0_t34_loop v1).trips, ∀ (k0_h3 : k0_cond3 v1 k0_t34 = 1#1), ∀ a, (k0_off403 v1 k0_t34) a + S1x1x108x128x128.size a ≤ S2x2x108x128x128.size a) ∧
  (∀ k0_t34 : Fin (k0_t34_loop v1).trips, ∀ (k0_h3 : k0_cond3 v1 k0_t34 = 1#1), ∀ (hinb : ∀ a, (k0_off403 v1 k0_t34) a + S1x1x108x128x128.size a ≤ S2x2x108x128x128.size a), (Rect.unit (s := S2x2x108x128x128) (k0_off403 v1 k0_t34) S1x1x108x128x128.size hinb).WholeWords (EltTy.packing .bf16)) ∧
  (∀ k0_t34 : Fin (k0_t34_loop v1).trips, ∀ (k0_h4 : k0_cond4 v1 k0_t34 = 1#1), ∀ a, (k0_off1164 v1 k0_t34) a + S1.size a ≤ S128.size a) ∧
  (∀ k0_t34 : Fin (k0_t34_loop v1).trips, ∀ a, (k0_off1174 v1 k0_t34) a + S1x1.size a ≤ S2x2.size a) ∧
  (∀ k0_t34 : Fin (k0_t34_loop v1).trips, ∀ a, (k0_off1176 v1 k0_t34) a + S1x1x108x128x128.size a ≤ S2x2x108x128x128.size a) ∧
  (∀ k0_t34 : Fin (k0_t34_loop v1).trips, ∀ (hinb : ∀ a, (k0_off1176 v1 k0_t34) a + S1x1x108x128x128.size a ≤ S2x2x108x128x128.size a), (Rect.unit (s := S2x2x108x128x128) (k0_off1176 v1 k0_t34) S1x1x108x128x128.size hinb).WholeWords (EltTy.packing .bf16)) ∧
  (∀ k0_t34 : Fin (k0_t34_loop v1).trips, ∀ (k0_h5 : k0_cond5 v1 k0_t34 = 1#1), 128 ∣ k0_mult11.toNat) ∧
  (∀ k0_t34 : Fin (k0_t34_loop v1).trips, ∀ (k0_h5 : k0_cond5 v1 k0_t34 = 1#1), ∀ a, (k0_off1181 v1 k0_t34) a + S1x1.size a ≤ S2x2.size a) ∧
  (∀ k0_t34 : Fin (k0_t34_loop v1).trips, ∀ (k0_h5 : k0_cond5 v1 k0_t34 = 1#1), ∀ a, (k0_off1182 v1 k0_t34) a + S1x1x108x128x128.size a ≤ S2x2x108x128x128.size a) ∧
  (∀ k0_t34 : Fin (k0_t34_loop v1).trips, ∀ (k0_h5 : k0_cond5 v1 k0_t34 = 1#1), ∀ (hinb : ∀ a, (k0_off1182 v1 k0_t34) a + S1x1x108x128x128.size a ≤ S2x2x108x128x128.size a), (Rect.unit (s := S2x2x108x128x128) (k0_off1182 v1 k0_t34) S1x1x108x128x128.size hinb).WholeWords (EltTy.packing .bf16)) ∧
  (∀ k0_t34 : Fin (k0_t34_loop v1).trips, ∀ (k0_h6 : k0_cond6 v1 k0_t34 = 1#1), ∀ a, (k0_off1943 v1 k0_t34) a + S1.size a ≤ S128.size a) ∧
  (∀ k0_t34 : Fin (k0_t34_loop v1).trips, ∀ a, (k0_off1953 v1 k0_t34) a + S1x1.size a ≤ S2x2.size a) ∧
  (∀ k0_t34 : Fin (k0_t34_loop v1).trips, ∀ a, (k0_off1954 v1 k0_t34) a + S1x1x108x128x128.size a ≤ S2x2x108x128x128.size a) ∧
  (∀ k0_t34 : Fin (k0_t34_loop v1).trips, ∀ (hinb : ∀ a, (k0_off1954 v1 k0_t34) a + S1x1x108x128x128.size a ≤ S2x2x108x128x128.size a), (Rect.unit (s := S2x2x108x128x128) (k0_off1954 v1 k0_t34) S1x1x108x128x128.size hinb).WholeWords (EltTy.packing .bf16)) ∧
  ((k0_t51_loop v1).OK) ∧
  (∀ k0_t51 : Fin (k0_t51_loop v1).trips, ∀ a, (k0_off1955 v1 k0_t51) a + S1.size a ≤ S128.size a) ∧
  (∀ k0_t51 : Fin (k0_t51_loop v1).trips, ∀ (k0_h7 : k0_cond7 v1 k0_t51 = 1#1), ∀ a, (k0_off1961 v1 k0_t51) a + S1x1.size a ≤ S2x2.size a) ∧
  (∀ k0_t51 : Fin (k0_t51_loop v1).trips, ∀ (k0_h7 : k0_cond7 v1 k0_t51 = 1#1), ∀ a, (k0_off1962 v1 k0_t51) a + S1x1x108x128x128.size a ≤ S2x2x108x128x128.size a) ∧
  (∀ k0_t51 : Fin (k0_t51_loop v1).trips, ∀ (k0_h7 : k0_cond7 v1 k0_t51 = 1#1), ∀ (hinb : ∀ a, (k0_off1962 v1 k0_t51) a + S1x1x108x128x128.size a ≤ S2x2x108x128x128.size a), (Rect.unit (s := S2x2x108x128x128) (k0_off1962 v1 k0_t51) S1x1x108x128x128.size hinb).WholeWords (EltTy.packing .bf16)) ∧
  (∀ k0_t51 : Fin (k0_t51_loop v1).trips, ∀ (k0_h8 : k0_cond8 v1 k0_t51 = 1#1), ∀ a, (k0_off2723 v1 k0_t51) a + S1.size a ≤ S128.size a) ∧
  (∀ k0_t51 : Fin (k0_t51_loop v1).trips, ∀ a, (k0_off2733 v1 k0_t51) a + S1x1.size a ≤ S2x2.size a) ∧
  (∀ k0_t51 : Fin (k0_t51_loop v1).trips, ∀ a, (k0_off2735 v1 k0_t51) a + S1x1x108x128x128.size a ≤ S2x2x108x128x128.size a) ∧
  (∀ k0_t51 : Fin (k0_t51_loop v1).trips, ∀ (hinb : ∀ a, (k0_off2735 v1 k0_t51) a + S1x1x108x128x128.size a ≤ S2x2x108x128x128.size a), (Rect.unit (s := S2x2x108x128x128) (k0_off2735 v1 k0_t51) S1x1x108x128x128.size hinb).WholeWords (EltTy.packing .bf16)) ∧
  (∀ k0_t51 : Fin (k0_t51_loop v1).trips, ∀ (k0_h9 : k0_cond9 v1 k0_t51 = 1#1), ∀ a, (k0_off2740 v1 k0_t51) a + S1x1.size a ≤ S2x2.size a) ∧
  (∀ k0_t51 : Fin (k0_t51_loop v1).trips, ∀ (k0_h9 : k0_cond9 v1 k0_t51 = 1#1), ∀ a, (k0_off2741 v1 k0_t51) a + S1x1x108x128x128.size a ≤ S2x2x108x128x128.size a) ∧
  (∀ k0_t51 : Fin (k0_t51_loop v1).trips, ∀ (k0_h9 : k0_cond9 v1 k0_t51 = 1#1), ∀ (hinb : ∀ a, (k0_off2741 v1 k0_t51) a + S1x1x108x128x128.size a ≤ S2x2x108x128x128.size a), (Rect.unit (s := S2x2x108x128x128) (k0_off2741 v1 k0_t51) S1x1x108x128x128.size hinb).WholeWords (EltTy.packing .bf16)) ∧
  (∀ k0_t51 : Fin (k0_t51_loop v1).trips, ∀ (k0_h10 : k0_cond10 v1 k0_t51 = 1#1), ∀ a, (k0_off3502 v1 k0_t51) a + S1.size a ≤ S128.size a) ∧
  (∀ k0_t51 : Fin (k0_t51_loop v1).trips, ∀ a, (k0_off3512 v1 k0_t51) a + S1x1.size a ≤ S2x2.size a)
def k0_chk19_1 (v1 : BitVec 32) : Prop :=
  (∀ k0_t51 : Fin (k0_t51_loop v1).trips, ∀ a, (k0_off3513 v1 k0_t51) a + S1x1x108x128x128.size a ≤ S2x2x108x128x128.size a) ∧
  (∀ k0_t51 : Fin (k0_t51_loop v1).trips, ∀ (hinb : ∀ a, (k0_off3513 v1 k0_t51) a + S1x1x108x128x128.size a ≤ S2x2x108x128x128.size a), (Rect.unit (s := S2x2x108x128x128) (k0_off3513 v1 k0_t51) S1x1x108x128x128.size hinb).WholeWords (EltTy.packing .bf16)) ∧
  (∀ (k0_h11 : k0_cond11 v1 = 1#1), ∀ a, (k0_off3514 v1) a + S1x1.size a ≤ S2x2.size a) ∧
  (∀ (k0_h11 : k0_cond11 v1 = 1#1), ∀ a, (k0_off3515 v1) a + S1x1x108x128x128.size a ≤ S2x2x108x128x128.size a) ∧
  (∀ (k0_h11 : k0_cond11 v1 = 1#1), ∀ (hinb : ∀ a, (k0_off3515 v1) a + S1x1x108x128x128.size a ≤ S2x2x108x128x128.size a), (Rect.unit (s := S2x2x108x128x128) (k0_off3515 v1) S1x1x108x128x128.size hinb).WholeWords (EltTy.packing .bf16)) ∧
  (∀ (k0_h11 : k0_cond11 v1 = 1#1), ∀ a, (k0_off3516 v1) a + S1x1.size a ≤ S2x2.size a) ∧
  (∀ (k0_h11 : k0_cond11 v1 = 1#1), ∀ a, (k0_off3517 v1) a + S1x1x108x128x128.size a ≤ S2x2x108x128x128.size a) ∧
  (∀ (k0_h11 : k0_cond11 v1 = 1#1), ∀ (hinb : ∀ a, (k0_off3517 v1) a + S1x1x108x128x128.size a ≤ S2x2x108x128x128.size a), (Rect.unit (s := S2x2x108x128x128) (k0_off3517 v1) S1x1x108x128x128.size hinb).WholeWords (EltTy.packing .bf16)) ∧
  (∀ (k0_h12 : k0_cond12 v1 = 1#1), ∀ a, (k0_off3518 v1) a + S1x1.size a ≤ S2x2.size a) ∧
  (∀ (k0_h12 : k0_cond12 v1 = 1#1), ∀ a, (k0_off3519 v1) a + S1x1x108x128x128.size a ≤ S2x2x108x128x128.size a) ∧
  (∀ (k0_h12 : k0_cond12 v1 = 1#1), ∀ (hinb : ∀ a, (k0_off3519 v1) a + S1x1x108x128x128.size a ≤ S2x2x108x128x128.size a), (Rect.unit (s := S2x2x108x128x128) (k0_off3519 v1) S1x1x108x128x128.size hinb).WholeWords (EltTy.packing .bf16)) ∧
  (∀ (k0_h12 : k0_cond12 v1 = 1#1), ∀ a, (k0_off3520 v1) a + S1x1.size a ≤ S2x2.size a) ∧
  (∀ (k0_h12 : k0_cond12 v1 = 1#1), ∀ a, (k0_off3521 v1) a + S1x1x108x128x128.size a ≤ S2x2x108x128x128.size a) ∧
  (∀ (k0_h12 : k0_cond12 v1 = 1#1), ∀ (hinb : ∀ a, (k0_off3521 v1) a + S1x1x108x128x128.size a ≤ S2x2x108x128x128.size a), (Rect.unit (s := S2x2x108x128x128) (k0_off3521 v1) S1x1x108x128x128.size hinb).WholeWords (EltTy.packing .bf16)) ∧
  ((k0_t68_loop v1).OK) ∧
  ((k0_t69_loop v1).OK)
def k0_chk19 (v1 : BitVec 32) : Prop :=
  k0_chk19_0 v1 ∧
  k0_chk19_1 v1
theorem k0_t34_ok : ∀ (v1 : BitVec 32) (k0_hw19 : k0_chk19 v1), (k0_t34_loop v1).OK := fun v1 k0_hw19 => k0_hw19.1.1
theorem k0_off396_inb : ∀ (v1 : BitVec 32) (k0_hw19 : k0_chk19 v1) (k0_t34 : Fin (k0_t34_loop v1).trips), ∀ a, (k0_off396 v1 k0_t34) a + S1.size a ≤ S128.size a := fun v1 k0_hw19 k0_t34 => k0_hw19.1.2.1 k0_t34
theorem k0_mult5_dvd : ∀ (v1 : BitVec 32) (k0_hw19 : k0_chk19 v1) (k0_t34 : Fin (k0_t34_loop v1).trips), ∀ (k0_h3 : k0_cond3 v1 k0_t34 = 1#1), 128 ∣ k0_mult5.toNat := fun v1 k0_hw19 k0_t34 k0_h3 => k0_hw19.1.2.2.1 k0_t34 k0_h3
theorem k0_off402_inb : ∀ (v1 : BitVec 32) (k0_hw19 : k0_chk19 v1) (k0_t34 : Fin (k0_t34_loop v1).trips), ∀ (k0_h3 : k0_cond3 v1 k0_t34 = 1#1), ∀ a, (k0_off402 v1 k0_t34) a + S1x1.size a ≤ S2x2.size a := fun v1 k0_hw19 k0_t34 k0_h3 => k0_hw19.1.2.2.2.1 k0_t34 k0_h3
theorem k0_off403_inb : ∀ (v1 : BitVec 32) (k0_hw19 : k0_chk19 v1) (k0_t34 : Fin (k0_t34_loop v1).trips), ∀ (k0_h3 : k0_cond3 v1 k0_t34 = 1#1), ∀ a, (k0_off403 v1 k0_t34) a + S1x1x108x128x128.size a ≤ S2x2x108x128x128.size a := fun v1 k0_hw19 k0_t34 k0_h3 => k0_hw19.1.2.2.2.2.1 k0_t34 k0_h3
theorem k0_off403_wordsbf16 : ∀ (v1 : BitVec 32) (k0_hw19 : k0_chk19 v1) (k0_t34 : Fin (k0_t34_loop v1).trips), ∀ (k0_h3 : k0_cond3 v1 k0_t34 = 1#1), (Rect.unit (s := S2x2x108x128x128) (k0_off403 v1 k0_t34) S1x1x108x128x128.size (k0_off403_inb v1 k0_hw19 k0_t34 k0_h3)).WholeWords (EltTy.packing .bf16) := fun v1 k0_hw19 k0_t34 k0_h3 => k0_hw19.1.2.2.2.2.2.1 k0_t34 k0_h3 (k0_off403_inb v1 k0_hw19 k0_t34 k0_h3)
theorem k0_off1164_inb : ∀ (v1 : BitVec 32) (k0_hw19 : k0_chk19 v1) (k0_t34 : Fin (k0_t34_loop v1).trips), ∀ (k0_h4 : k0_cond4 v1 k0_t34 = 1#1), ∀ a, (k0_off1164 v1 k0_t34) a + S1.size a ≤ S128.size a := fun v1 k0_hw19 k0_t34 k0_h4 => k0_hw19.1.2.2.2.2.2.2.1 k0_t34 k0_h4
theorem k0_off1174_inb : ∀ (v1 : BitVec 32) (k0_hw19 : k0_chk19 v1) (k0_t34 : Fin (k0_t34_loop v1).trips), ∀ a, (k0_off1174 v1 k0_t34) a + S1x1.size a ≤ S2x2.size a := fun v1 k0_hw19 k0_t34 => k0_hw19.1.2.2.2.2.2.2.2.1 k0_t34
theorem k0_off1176_inb : ∀ (v1 : BitVec 32) (k0_hw19 : k0_chk19 v1) (k0_t34 : Fin (k0_t34_loop v1).trips), ∀ a, (k0_off1176 v1 k0_t34) a + S1x1x108x128x128.size a ≤ S2x2x108x128x128.size a := fun v1 k0_hw19 k0_t34 => k0_hw19.1.2.2.2.2.2.2.2.2.1 k0_t34
theorem k0_off1176_wordsbf16 : ∀ (v1 : BitVec 32) (k0_hw19 : k0_chk19 v1) (k0_t34 : Fin (k0_t34_loop v1).trips), (Rect.unit (s := S2x2x108x128x128) (k0_off1176 v1 k0_t34) S1x1x108x128x128.size (k0_off1176_inb v1 k0_hw19 k0_t34)).WholeWords (EltTy.packing .bf16) := fun v1 k0_hw19 k0_t34 => k0_hw19.1.2.2.2.2.2.2.2.2.2.1 k0_t34 (k0_off1176_inb v1 k0_hw19 k0_t34)
theorem k0_mult11_dvd : ∀ (v1 : BitVec 32) (k0_hw19 : k0_chk19 v1) (k0_t34 : Fin (k0_t34_loop v1).trips), ∀ (k0_h5 : k0_cond5 v1 k0_t34 = 1#1), 128 ∣ k0_mult11.toNat := fun v1 k0_hw19 k0_t34 k0_h5 => k0_hw19.1.2.2.2.2.2.2.2.2.2.2.1 k0_t34 k0_h5
theorem k0_off1181_inb : ∀ (v1 : BitVec 32) (k0_hw19 : k0_chk19 v1) (k0_t34 : Fin (k0_t34_loop v1).trips), ∀ (k0_h5 : k0_cond5 v1 k0_t34 = 1#1), ∀ a, (k0_off1181 v1 k0_t34) a + S1x1.size a ≤ S2x2.size a := fun v1 k0_hw19 k0_t34 k0_h5 => k0_hw19.1.2.2.2.2.2.2.2.2.2.2.2.1 k0_t34 k0_h5
theorem k0_off1182_inb : ∀ (v1 : BitVec 32) (k0_hw19 : k0_chk19 v1) (k0_t34 : Fin (k0_t34_loop v1).trips), ∀ (k0_h5 : k0_cond5 v1 k0_t34 = 1#1), ∀ a, (k0_off1182 v1 k0_t34) a + S1x1x108x128x128.size a ≤ S2x2x108x128x128.size a := fun v1 k0_hw19 k0_t34 k0_h5 => k0_hw19.1.2.2.2.2.2.2.2.2.2.2.2.2.1 k0_t34 k0_h5
theorem k0_off1182_wordsbf16 : ∀ (v1 : BitVec 32) (k0_hw19 : k0_chk19 v1) (k0_t34 : Fin (k0_t34_loop v1).trips), ∀ (k0_h5 : k0_cond5 v1 k0_t34 = 1#1), (Rect.unit (s := S2x2x108x128x128) (k0_off1182 v1 k0_t34) S1x1x108x128x128.size (k0_off1182_inb v1 k0_hw19 k0_t34 k0_h5)).WholeWords (EltTy.packing .bf16) := fun v1 k0_hw19 k0_t34 k0_h5 => k0_hw19.1.2.2.2.2.2.2.2.2.2.2.2.2.2.1 k0_t34 k0_h5 (k0_off1182_inb v1 k0_hw19 k0_t34 k0_h5)
theorem k0_off1943_inb : ∀ (v1 : BitVec 32) (k0_hw19 : k0_chk19 v1) (k0_t34 : Fin (k0_t34_loop v1).trips), ∀ (k0_h6 : k0_cond6 v1 k0_t34 = 1#1), ∀ a, (k0_off1943 v1 k0_t34) a + S1.size a ≤ S128.size a := fun v1 k0_hw19 k0_t34 k0_h6 => k0_hw19.1.2.2.2.2.2.2.2.2.2.2.2.2.2.2.1 k0_t34 k0_h6
theorem k0_off1953_inb : ∀ (v1 : BitVec 32) (k0_hw19 : k0_chk19 v1) (k0_t34 : Fin (k0_t34_loop v1).trips), ∀ a, (k0_off1953 v1 k0_t34) a + S1x1.size a ≤ S2x2.size a := fun v1 k0_hw19 k0_t34 => k0_hw19.1.2.2.2.2.2.2.2.2.2.2.2.2.2.2.2.1 k0_t34
theorem k0_off1954_inb : ∀ (v1 : BitVec 32) (k0_hw19 : k0_chk19 v1) (k0_t34 : Fin (k0_t34_loop v1).trips), ∀ a, (k0_off1954 v1 k0_t34) a + S1x1x108x128x128.size a ≤ S2x2x108x128x128.size a := fun v1 k0_hw19 k0_t34 => k0_hw19.1.2.2.2.2.2.2.2.2.2.2.2.2.2.2.2.2.1 k0_t34
theorem k0_off1954_wordsbf16 : ∀ (v1 : BitVec 32) (k0_hw19 : k0_chk19 v1) (k0_t34 : Fin (k0_t34_loop v1).trips), (Rect.unit (s := S2x2x108x128x128) (k0_off1954 v1 k0_t34) S1x1x108x128x128.size (k0_off1954_inb v1 k0_hw19 k0_t34)).WholeWords (EltTy.packing .bf16) := fun v1 k0_hw19 k0_t34 => k0_hw19.1.2.2.2.2.2.2.2.2.2.2.2.2.2.2.2.2.2.1 k0_t34 (k0_off1954_inb v1 k0_hw19 k0_t34)
theorem k0_t51_ok : ∀ (v1 : BitVec 32) (k0_hw19 : k0_chk19 v1), (k0_t51_loop v1).OK := fun v1 k0_hw19 => k0_hw19.1.2.2.2.2.2.2.2.2.2.2.2.2.2.2.2.2.2.2.1
theorem k0_off1955_inb : ∀ (v1 : BitVec 32) (k0_hw19 : k0_chk19 v1) (k0_t51 : Fin (k0_t51_loop v1).trips), ∀ a, (k0_off1955 v1 k0_t51) a + S1.size a ≤ S128.size a := fun v1 k0_hw19 k0_t51 => k0_hw19.1.2.2.2.2.2.2.2.2.2.2.2.2.2.2.2.2.2.2.2.1 k0_t51
theorem k0_off1961_inb : ∀ (v1 : BitVec 32) (k0_hw19 : k0_chk19 v1) (k0_t51 : Fin (k0_t51_loop v1).trips), ∀ (k0_h7 : k0_cond7 v1 k0_t51 = 1#1), ∀ a, (k0_off1961 v1 k0_t51) a + S1x1.size a ≤ S2x2.size a := fun v1 k0_hw19 k0_t51 k0_h7 => k0_hw19.1.2.2.2.2.2.2.2.2.2.2.2.2.2.2.2.2.2.2.2.2.1 k0_t51 k0_h7
theorem k0_off1962_inb : ∀ (v1 : BitVec 32) (k0_hw19 : k0_chk19 v1) (k0_t51 : Fin (k0_t51_loop v1).trips), ∀ (k0_h7 : k0_cond7 v1 k0_t51 = 1#1), ∀ a, (k0_off1962 v1 k0_t51) a + S1x1x108x128x128.size a ≤ S2x2x108x128x128.size a := fun v1 k0_hw19 k0_t51 k0_h7 => k0_hw19.1.2.2.2.2.2.2.2.2.2.2.2.2.2.2.2.2.2.2.2.2.2.1 k0_t51 k0_h7
theorem k0_off1962_wordsbf16 : ∀ (v1 : BitVec 32) (k0_hw19 : k0_chk19 v1) (k0_t51 : Fin (k0_t51_loop v1).trips), ∀ (k0_h7 : k0_cond7 v1 k0_t51 = 1#1), (Rect.unit (s := S2x2x108x128x128) (k0_off1962 v1 k0_t51) S1x1x108x128x128.size (k0_off1962_inb v1 k0_hw19 k0_t51 k0_h7)).WholeWords (EltTy.packing .bf16) := fun v1 k0_hw19 k0_t51 k0_h7 => k0_hw19.1.2.2.2.2.2.2.2.2.2.2.2.2.2.2.2.2.2.2.2.2.2.2.1 k0_t51 k0_h7 (k0_off1962_inb v1 k0_hw19 k0_t51 k0_h7)
theorem k0_off2723_inb : ∀ (v1 : BitVec 32) (k0_hw19 : k0_chk19 v1) (k0_t51 : Fin (k0_t51_loop v1).trips), ∀ (k0_h8 : k0_cond8 v1 k0_t51 = 1#1), ∀ a, (k0_off2723 v1 k0_t51) a + S1.size a ≤ S128.size a := fun v1 k0_hw19 k0_t51 k0_h8 => k0_hw19.1.2.2.2.2.2.2.2.2.2.2.2.2.2.2.2.2.2.2.2.2.2.2.2.1 k0_t51 k0_h8
theorem k0_off2733_inb : ∀ (v1 : BitVec 32) (k0_hw19 : k0_chk19 v1) (k0_t51 : Fin (k0_t51_loop v1).trips), ∀ a, (k0_off2733 v1 k0_t51) a + S1x1.size a ≤ S2x2.size a := fun v1 k0_hw19 k0_t51 => k0_hw19.1.2.2.2.2.2.2.2.2.2.2.2.2.2.2.2.2.2.2.2.2.2.2.2.2.1 k0_t51
theorem k0_off2735_inb : ∀ (v1 : BitVec 32) (k0_hw19 : k0_chk19 v1) (k0_t51 : Fin (k0_t51_loop v1).trips), ∀ a, (k0_off2735 v1 k0_t51) a + S1x1x108x128x128.size a ≤ S2x2x108x128x128.size a := fun v1 k0_hw19 k0_t51 => k0_hw19.1.2.2.2.2.2.2.2.2.2.2.2.2.2.2.2.2.2.2.2.2.2.2.2.2.2.1 k0_t51
theorem k0_off2735_wordsbf16 : ∀ (v1 : BitVec 32) (k0_hw19 : k0_chk19 v1) (k0_t51 : Fin (k0_t51_loop v1).trips), (Rect.unit (s := S2x2x108x128x128) (k0_off2735 v1 k0_t51) S1x1x108x128x128.size (k0_off2735_inb v1 k0_hw19 k0_t51)).WholeWords (EltTy.packing .bf16) := fun v1 k0_hw19 k0_t51 => k0_hw19.1.2.2.2.2.2.2.2.2.2.2.2.2.2.2.2.2.2.2.2.2.2.2.2.2.2.2.1 k0_t51 (k0_off2735_inb v1 k0_hw19 k0_t51)
theorem k0_off2740_inb : ∀ (v1 : BitVec 32) (k0_hw19 : k0_chk19 v1) (k0_t51 : Fin (k0_t51_loop v1).trips), ∀ (k0_h9 : k0_cond9 v1 k0_t51 = 1#1), ∀ a, (k0_off2740 v1 k0_t51) a + S1x1.size a ≤ S2x2.size a := fun v1 k0_hw19 k0_t51 k0_h9 => k0_hw19.1.2.2.2.2.2.2.2.2.2.2.2.2.2.2.2.2.2.2.2.2.2.2.2.2.2.2.2.1 k0_t51 k0_h9
theorem k0_off2741_inb : ∀ (v1 : BitVec 32) (k0_hw19 : k0_chk19 v1) (k0_t51 : Fin (k0_t51_loop v1).trips), ∀ (k0_h9 : k0_cond9 v1 k0_t51 = 1#1), ∀ a, (k0_off2741 v1 k0_t51) a + S1x1x108x128x128.size a ≤ S2x2x108x128x128.size a := fun v1 k0_hw19 k0_t51 k0_h9 => k0_hw19.1.2.2.2.2.2.2.2.2.2.2.2.2.2.2.2.2.2.2.2.2.2.2.2.2.2.2.2.2.1 k0_t51 k0_h9
theorem k0_off2741_wordsbf16 : ∀ (v1 : BitVec 32) (k0_hw19 : k0_chk19 v1) (k0_t51 : Fin (k0_t51_loop v1).trips), ∀ (k0_h9 : k0_cond9 v1 k0_t51 = 1#1), (Rect.unit (s := S2x2x108x128x128) (k0_off2741 v1 k0_t51) S1x1x108x128x128.size (k0_off2741_inb v1 k0_hw19 k0_t51 k0_h9)).WholeWords (EltTy.packing .bf16) := fun v1 k0_hw19 k0_t51 k0_h9 => k0_hw19.1.2.2.2.2.2.2.2.2.2.2.2.2.2.2.2.2.2.2.2.2.2.2.2.2.2.2.2.2.2.1 k0_t51 k0_h9 (k0_off2741_inb v1 k0_hw19 k0_t51 k0_h9)
theorem k0_off3502_inb : ∀ (v1 : BitVec 32) (k0_hw19 : k0_chk19 v1) (k0_t51 : Fin (k0_t51_loop v1).trips), ∀ (k0_h10 : k0_cond10 v1 k0_t51 = 1#1), ∀ a, (k0_off3502 v1 k0_t51) a + S1.size a ≤ S128.size a := fun v1 k0_hw19 k0_t51 k0_h10 => k0_hw19.1.2.2.2.2.2.2.2.2.2.2.2.2.2.2.2.2.2.2.2.2.2.2.2.2.2.2.2.2.2.2.1 k0_t51 k0_h10
theorem k0_off3512_inb : ∀ (v1 : BitVec 32) (k0_hw19 : k0_chk19 v1) (k0_t51 : Fin (k0_t51_loop v1).trips), ∀ a, (k0_off3512 v1 k0_t51) a + S1x1.size a ≤ S2x2.size a := fun v1 k0_hw19 k0_t51 => k0_hw19.1.2.2.2.2.2.2.2.2.2.2.2.2.2.2.2.2.2.2.2.2.2.2.2.2.2.2.2.2.2.2.2 k0_t51
theorem k0_off3513_inb : ∀ (v1 : BitVec 32) (k0_hw19 : k0_chk19 v1) (k0_t51 : Fin (k0_t51_loop v1).trips), ∀ a, (k0_off3513 v1 k0_t51) a + S1x1x108x128x128.size a ≤ S2x2x108x128x128.size a := fun v1 k0_hw19 k0_t51 => k0_hw19.2.1 k0_t51
theorem k0_off3513_wordsbf16 : ∀ (v1 : BitVec 32) (k0_hw19 : k0_chk19 v1) (k0_t51 : Fin (k0_t51_loop v1).trips), (Rect.unit (s := S2x2x108x128x128) (k0_off3513 v1 k0_t51) S1x1x108x128x128.size (k0_off3513_inb v1 k0_hw19 k0_t51)).WholeWords (EltTy.packing .bf16) := fun v1 k0_hw19 k0_t51 => k0_hw19.2.2.1 k0_t51 (k0_off3513_inb v1 k0_hw19 k0_t51)
theorem k0_off3514_inb : ∀ (v1 : BitVec 32) (k0_hw19 : k0_chk19 v1), ∀ (k0_h11 : k0_cond11 v1 = 1#1), ∀ a, (k0_off3514 v1) a + S1x1.size a ≤ S2x2.size a := fun v1 k0_hw19 k0_h11 => k0_hw19.2.2.2.1 k0_h11
theorem k0_off3515_inb : ∀ (v1 : BitVec 32) (k0_hw19 : k0_chk19 v1), ∀ (k0_h11 : k0_cond11 v1 = 1#1), ∀ a, (k0_off3515 v1) a + S1x1x108x128x128.size a ≤ S2x2x108x128x128.size a := fun v1 k0_hw19 k0_h11 => k0_hw19.2.2.2.2.1 k0_h11
theorem k0_off3515_wordsbf16 : ∀ (v1 : BitVec 32) (k0_hw19 : k0_chk19 v1), ∀ (k0_h11 : k0_cond11 v1 = 1#1), (Rect.unit (s := S2x2x108x128x128) (k0_off3515 v1) S1x1x108x128x128.size (k0_off3515_inb v1 k0_hw19 k0_h11)).WholeWords (EltTy.packing .bf16) := fun v1 k0_hw19 k0_h11 => k0_hw19.2.2.2.2.2.1 k0_h11 (k0_off3515_inb v1 k0_hw19 k0_h11)
theorem k0_off3516_inb : ∀ (v1 : BitVec 32) (k0_hw19 : k0_chk19 v1), ∀ (k0_h11 : k0_cond11 v1 = 1#1), ∀ a, (k0_off3516 v1) a + S1x1.size a ≤ S2x2.size a := fun v1 k0_hw19 k0_h11 => k0_hw19.2.2.2.2.2.2.1 k0_h11
theorem k0_off3517_inb : ∀ (v1 : BitVec 32) (k0_hw19 : k0_chk19 v1), ∀ (k0_h11 : k0_cond11 v1 = 1#1), ∀ a, (k0_off3517 v1) a + S1x1x108x128x128.size a ≤ S2x2x108x128x128.size a := fun v1 k0_hw19 k0_h11 => k0_hw19.2.2.2.2.2.2.2.1 k0_h11
theorem k0_off3517_wordsbf16 : ∀ (v1 : BitVec 32) (k0_hw19 : k0_chk19 v1), ∀ (k0_h11 : k0_cond11 v1 = 1#1), (Rect.unit (s := S2x2x108x128x128) (k0_off3517 v1) S1x1x108x128x128.size (k0_off3517_inb v1 k0_hw19 k0_h11)).WholeWords (EltTy.packing .bf16) := fun v1 k0_hw19 k0_h11 => k0_hw19.2.2.2.2.2.2.2.2.1 k0_h11 (k0_off3517_inb v1 k0_hw19 k0_h11)
theorem k0_off3518_inb : ∀ (v1 : BitVec 32) (k0_hw19 : k0_chk19 v1), ∀ (k0_h12 : k0_cond12 v1 = 1#1), ∀ a, (k0_off3518 v1) a + S1x1.size a ≤ S2x2.size a := fun v1 k0_hw19 k0_h12 => k0_hw19.2.2.2.2.2.2.2.2.2.1 k0_h12
theorem k0_off3519_inb : ∀ (v1 : BitVec 32) (k0_hw19 : k0_chk19 v1), ∀ (k0_h12 : k0_cond12 v1 = 1#1), ∀ a, (k0_off3519 v1) a + S1x1x108x128x128.size a ≤ S2x2x108x128x128.size a := fun v1 k0_hw19 k0_h12 => k0_hw19.2.2.2.2.2.2.2.2.2.2.1 k0_h12
theorem k0_off3519_wordsbf16 : ∀ (v1 : BitVec 32) (k0_hw19 : k0_chk19 v1), ∀ (k0_h12 : k0_cond12 v1 = 1#1), (Rect.unit (s := S2x2x108x128x128) (k0_off3519 v1) S1x1x108x128x128.size (k0_off3519_inb v1 k0_hw19 k0_h12)).WholeWords (EltTy.packing .bf16) := fun v1 k0_hw19 k0_h12 => k0_hw19.2.2.2.2.2.2.2.2.2.2.2.1 k0_h12 (k0_off3519_inb v1 k0_hw19 k0_h12)
theorem k0_off3520_inb : ∀ (v1 : BitVec 32) (k0_hw19 : k0_chk19 v1), ∀ (k0_h12 : k0_cond12 v1 = 1#1), ∀ a, (k0_off3520 v1) a + S1x1.size a ≤ S2x2.size a := fun v1 k0_hw19 k0_h12 => k0_hw19.2.2.2.2.2.2.2.2.2.2.2.2.1 k0_h12
theorem k0_off3521_inb : ∀ (v1 : BitVec 32) (k0_hw19 : k0_chk19 v1), ∀ (k0_h12 : k0_cond12 v1 = 1#1), ∀ a, (k0_off3521 v1) a + S1x1x108x128x128.size a ≤ S2x2x108x128x128.size a := fun v1 k0_hw19 k0_h12 => k0_hw19.2.2.2.2.2.2.2.2.2.2.2.2.2.1 k0_h12
theorem k0_off3521_wordsbf16 : ∀ (v1 : BitVec 32) (k0_hw19 : k0_chk19 v1), ∀ (k0_h12 : k0_cond12 v1 = 1#1), (Rect.unit (s := S2x2x108x128x128) (k0_off3521 v1) S1x1x108x128x128.size (k0_off3521_inb v1 k0_hw19 k0_h12)).WholeWords (EltTy.packing .bf16) := fun v1 k0_hw19 k0_h12 => k0_hw19.2.2.2.2.2.2.2.2.2.2.2.2.2.2.1 k0_h12 (k0_off3521_inb v1 k0_hw19 k0_h12)
theorem k0_t68_ok : ∀ (v1 : BitVec 32) (k0_hw19 : k0_chk19 v1), (k0_t68_loop v1).OK := fun v1 k0_hw19 => k0_hw19.2.2.2.2.2.2.2.2.2.2.2.2.2.2.2.1
theorem k0_t69_ok : ∀ (v1 : BitVec 32) (k0_hw19 : k0_chk19 v1), (k0_t69_loop v1).OK := fun v1 k0_hw19 => k0_hw19.2.2.2.2.2.2.2.2.2.2.2.2.2.2.2.2

def k0_mult34 : BitVec 32 :=
  let c0_i32_380 : BitVec 32 := 0#32
  c0_i32_380
abbrev stage0_0 : Fin 1 → Memref sig .tc .smem S8x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference.lean ====
abbrev S1280x16x108x128 : Shape := ⟨4, ![1280, 16, 108, 128]⟩
abbrev S1280x16x108 : Shape := ⟨3, ![1280, 16, 108]⟩
abbrev S8x128 : Shape := ⟨2, ![8, 128]⟩
abbrev S8 : Shape := ⟨1, ![8]⟩
abbrev S_ : Shape := ⟨0, ![]⟩
abbrev S8x128x1 : Shape := ⟨3, ![8, 128, 1]⟩
abbrev S8x128x16x108x128 : Shape := ⟨5, ![8, 128, 16, 108, 128]⟩
abbrev S8x2048x108x128 : Shape := ⟨4, ![8, 2048, 108, 128]⟩
abbrev S8x128x16x108 : Shape := ⟨4, ![8, 128, 16, 108]⟩
abbrev S8x2048x108 : Shape := ⟨3, ![8, 2048, 108]⟩
abbrev S8x2048x108x1 : Shape := ⟨4, ![8, 2048, 108, 1]⟩
abbrev S8x1x1x1 : Shape := ⟨4, ![8, 1, 1, 1]⟩

abbrev nBuf : Space → Nat
  | .hbm => 51
  | .vmem => 7
  | .smem => 0
  | _ => 0

abbrev bufTy : (tb : Table) → Fin (tcTables nBuf tb) → BufTy
  | .hbm, ⟨0, _⟩ => ⟨S1280x16x108x128, .fp8e4m3⟩
  | .hbm, ⟨1, _⟩ => ⟨S1280x16x108x128, .fp8e4m3⟩
  | .hbm, ⟨2, _⟩ => ⟨S1280x16x108, .f32⟩
  | .hbm, ⟨3, _⟩ => ⟨S1280x16x108, .f32⟩
  | .hbm, ⟨4, _⟩ => ⟨S8x128, .i32⟩
  | .hbm, ⟨5, _⟩ => ⟨S8, .i32⟩
  | .hbm, ⟨6, _⟩ => ⟨S_, .i32⟩
  | .hbm, ⟨7, _⟩ => ⟨S8x128, .i32⟩
  | .hbm, ⟨8, _⟩ => ⟨S8x128, .i1⟩
  | .hbm, ⟨9, _⟩ => ⟨S_, .i32⟩
  | .hbm, ⟨10, _⟩ => ⟨S8x128, .i32⟩
  | .hbm, ⟨11, _⟩ => ⟨S8x128, .i32⟩
  | .hbm, ⟨12, _⟩ => ⟨S8x128, .i32⟩
  | .hbm, ⟨13, _⟩ => ⟨S8x128x1, .i32⟩
  | .hbm, ⟨14, _⟩ => ⟨S8x128x16x108x128, .fp8e4m3⟩
  | .hbm, ⟨15, _⟩ => ⟨S8x2048x108x128, .fp8e4m3⟩
  | .hbm, ⟨16, _⟩ => ⟨S_, .i32⟩
  | .hbm, ⟨17, _⟩ => ⟨S8x128, .i32⟩
  | .hbm, ⟨18, _⟩ => ⟨S8x128, .i1⟩
  | .hbm, ⟨19, _⟩ => ⟨S_, .i32⟩
  | .hbm, ⟨20, _⟩ => ⟨S8x128, .i32⟩
  | .hbm, ⟨21, _⟩ => ⟨S8x128, .i32⟩
  | .hbm, ⟨22, _⟩ => ⟨S8x128, .i32⟩
  | .hbm, ⟨23, _⟩ => ⟨S8x128x1, .i32⟩
  | .hbm, ⟨24, _⟩ => ⟨S8x128x16x108x128, .fp8e4m3⟩
  | .hbm, ⟨25, _⟩ => ⟨S8x2048x108x128, .fp8e4m3⟩
  | .hbm, ⟨26, _⟩ => ⟨S_, .i32⟩
  | .hbm, ⟨27, _⟩ => ⟨S8x128, .i32⟩
  | .hbm, ⟨28, _⟩ => ⟨S8x128, .i1⟩
  | .hbm, ⟨29, _⟩ => ⟨S_, .i32⟩
  | .hbm, ⟨30, _⟩ => ⟨S8x128, .i32⟩
  | .hbm, ⟨31, _⟩ => ⟨S8x128, .i32⟩
  | .hbm, ⟨32, _⟩ => ⟨S8x128, .i32⟩
  | .hbm, ⟨33, _⟩ => ⟨S8x128x1, .i32⟩
  | .hbm, ⟨34, _⟩ => ⟨S8x128x16x108, .f32⟩
  | .hbm, ⟨35, _⟩ => ⟨S8x2048x108, .f32⟩
  | .hbm, ⟨36, _⟩ => ⟨S8x2048x108x1, .f32⟩
  | .hbm, ⟨37, _⟩ => ⟨S_, .i32⟩
  | .hbm, ⟨38, _⟩ => ⟨S8x128, .i32⟩
  | .hbm, ⟨39, _⟩ => ⟨S8x128, .i1⟩
  | .hbm, ⟨40, _⟩ => ⟨S_, .i32⟩
  | .hbm, ⟨41, _⟩ => ⟨S8x128, .i32⟩
  | .hbm, ⟨42, _⟩ => ⟨S8x128, .i32⟩
  | .hbm, ⟨43, _⟩ => ⟨S8x128, .i32⟩
  | .hbm, ⟨44, _⟩ => ⟨S8x128x1, .i32⟩
  | .hbm, ⟨45, _⟩ => ⟨S8x128x16x108, .f32⟩
  | .hbm, ⟨46, _⟩ => ⟨S8x2048x108, .f32⟩
  | .hbm, ⟨47, _⟩ => ⟨S8x2048x108x1, .f32⟩
  | .hbm, ⟨48, _⟩ => ⟨S8x1x1x1, .i32⟩
  | .hbm, ⟨49, _⟩ => ⟨S8x2048x108x128, .bf16⟩
  | .hbm, ⟨50, _⟩ => ⟨S8x2048x108x128, .bf16⟩
  | .local _ .vmem, ⟨0, _⟩ => ⟨S8x2048x108x128, .fp8e4m3⟩
  | .local _ .vmem, ⟨1, _⟩ => ⟨S8x2048x108x128, .fp8e4m3⟩
  | .local _ .vmem, ⟨2, _⟩ => ⟨S8x2048x108x1, .f32⟩
  | .local _ .vmem, ⟨3, _⟩ => ⟨S8x2048x108x1, .f32⟩
  | .local _ .vmem, ⟨4, _⟩ => ⟨S8x1x1x1, .i32⟩
  | .local _ .vmem, ⟨5, _⟩ => ⟨S8x2048x108x128, .bf16⟩
  | .local _ .vmem, ⟨6, _⟩ => ⟨S8x2048x108x128, .bf16⟩
  | _, _ => ⟨S1280x16x108x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35_0 : Ref sig .tc := ⟨.hbm, 49, rfl⟩
abbrev main_v35_1 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x2048x108x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048x108x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x108x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x108x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1x1x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2048x108x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2048x108x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Base.lean ====
/- Points-tos over a memref's own coordinates, and the memory operations' rules over them. -/
module

public import proofs.«01_k».proof.Defs
public import proofs.«01_k».proof.Proof.Gen.Kernel.Frame
public import Idealize.ShloMosaic.Lib.Pipeline.FrameBody
public import Idealize.ShloMosaic.Lib.LoopRemainder
public import Idealize.ShloMosaic.Lib.Batch
public import Idealize.ShloMosaic.Lib.ShareLeaves
public import Idealize.ShloMosaic.Lib.Ring
public import Idealize.ShloMosaic.Lib.Tactic
public import Idealize.ShloMosaic.Adequacy
public import Idealize.ShloMosaic.Init

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The values of the kernel: bit patterns. -/
local notation "V" => Elt Bits
/-- The algebra: points-tos beside the transfers' counters. -/
local notation "𝕄" => MT nD τ sig Unit (Elt Bits) ℕ (Pipeline.UD sig nD τ) ℕ

instance eltNonempty (e : EltTy) : Nonempty (Elt Bits e) := by
  cases e <;> first | exact ⟨(0 : BitVec _)⟩ | exact ⟨(0 : ℕ)⟩ | exact ⟨default⟩

/-- The embedding of the transfers' counters. -/
abbrev EC : Idealize.SL.RA.UEmb Counters 𝕄 := countersEmb (U := Pipeline.UD sig nD τ)

variable {sp : Space} {s t : Shape} {e : EltTy} (c : Dev nD)

/-- Contents of `m`'s buffer that read `X` through `m`. -/
def put (m : Memref sig .tc sp s e) (X : s.Idx → V e) : m.view.ty.Contents V :=
  m.view.write V (fun _ => Classical.choice (eltNonempty _)) X Finset.univ

theorem put_emb (m : Memref sig .tc sp s e) (X : s.Idx → V e) (i : s.Idx) :
    put m X (m.view.emb i) = _root_.cast (congrArg V m.view.elt_eq.symm) (X i) :=
  View.write_emb_of_mem _ _ (Finset.mem_univ i)

theorem read_put (m : Memref sig .tc sp s e) (X : s.Idx → V e) : m.view.read V (put m X) = X :=
  View.read_write_univ _ _

/-- The elements `I` of `m` hold `X`, at share `q`. -/
abbrev mpt (m : Memref sig .tc sp s e) (I : Finset s.Idx) (q : PosShare TreeShare) (X : s.Idx → V e) : sProp 𝕄 :=
  (m.view.loc (c : Thread nD τ) ↦[I.map m.view.emb]{q} put m X)

variable {c}

theorem mpt_of (m : Memref sig .tc sp s e) (I : Finset s.Idx) (q : PosShare TreeShare) (f : m.view.ty.Contents V)
    (X : s.Idx → V e) (h : ∀ i ∈ I, m.view.read V f i = X i) :
    ((m.view.loc (c : Thread nD τ) ↦[I.map m.view.emb]{q} f) : sProp 𝕄) = mpt c m I q X := by
  refine pointsTo_congr fun j hj => ?_
  obtain ⟨i, hi, rfl⟩ := Finset.mem_map.1 hj
  rw [put_emb, ← h i hi, View.read_apply]
  simp

theorem mpt_congr (m : Memref sig .tc sp s e) {I : Finset s.Idx} {q : PosShare TreeShare} {X Y : s.Idx → V e}
    (h : ∀ i ∈ I, X i = Y i) : mpt c m I q X = mpt c m I q Y :=
  mpt_of m I q (put m X) Y fun i hi => by rw [read_put]; exact h i hi

theorem mpt_union (m : Memref sig .tc sp s e) {I J : Finset s.Idx} {q : PosShare TreeShare} {X : s.Idx → V e}
    (h : Disjoint I J) : mpt c m (I ∪ J) q X = iprop(mpt c m I q X ∗ mpt c m J q X) := by
  unfold mpt
  rw [Finset.map_union]
  have := pointsTo_union (ℓ := m.view.loc (c : Thread nD τ)) (q := q) (f := put m X) (Ix := Unit) (Name := ℕ) (U := Pipeline.UD sig nD τ) (Lvl := ℕ)
    ((Finset.disjoint_map m.view.emb).2 h)
  exact BI.Entails.antisymm this.1 this.2

/-- Carving `I` out of `S`. -/
theorem mpt_sub (m : Memref sig .tc sp s e) {I S : Finset s.Idx} {q : PosShare TreeShare} {X : s.Idx → V e}
    (h : I ⊆ S) : mpt c m S q X = iprop(mpt c m I q X ∗ mpt c m (S \ I) q X) := by
  rw [← mpt_union m Finset.disjoint_sdiff, Finset.union_sdiff_of_subset h]

theorem mpt_biUnion {T : Type} (m : Memref sig .tc sp s e) (S : Finset T) (K : T → Finset s.Idx) {q : PosShare TreeShare} {X : s.Idx → V e}
    (h : ∀ t ∈ S, ∀ t' ∈ S, t ≠ t' → Disjoint (K t) (K t')) :
    mpt c m (S.biUnion K) q X = bigSep S fun t => mpt c m (K t) q X := by
  classical
  unfold mpt
  rw [Finset.map_eq_image, Finset.biUnion_image]
  simp only [← Finset.map_eq_image]
  exact pointsTo_biUnion S _ fun t ht t' ht' hne => (Finset.disjoint_map m.view.emb).2 (h t ht t' ht' hne)

/-- Through a slice. -/
theorem mpt_slice (m : Memref sig .tc sp s e) (r : Rect s) (h) (q : PosShare TreeShare) (X : s.Idx → V e) :
    mpt c (m.slice r h) Finset.univ q (fun x => X (r.emb x)) = mpt c m r.set q X := by
  rw [← mpt_of m r.set q (put (m.slice r h) fun x => X (r.emb x)) X ?_]
  · show (_ ↦[_]{q} _ : sProp 𝕄) = (_ ↦[_]{q} _ : sProp 𝕄)
    rw [← Rect.map_emb_univ, Finset.map_map]
  · intro i hi
    rw [← Rect.map_emb_univ] at hi
    obtain ⟨x, -, rfl⟩ := Finset.mem_map.1 hi
    have := congrFun (read_put (m.slice r h) fun x => X (r.emb x)) x
    exact this

/-- Through a squeeze. -/
theorem mpt_squeeze (m : Memref sig .tc sp s e) (h : s.Squeezes t) (q : PosShare TreeShare) (X : s.Idx → V e) :
    mpt c (m.squeeze t h) Finset.univ q (fun x => X (Shape.reshapeEquiv h.numel_eq x)) = mpt c m Finset.univ q X := by
  rw [← mpt_of m Finset.univ q (put (m.squeeze t h) fun x => X (Shape.reshapeEquiv h.numel_eq x)) X ?_]
  · show (_ ↦[_]{q} _ : sProp 𝕄) = (_ ↦[_]{q} _ : sProp 𝕄)
    congr 1
    exact View.set_reshape _ _
  · intro i _
    have := congrFun (read_put (m.squeeze t h) fun x => X (Shape.reshapeEquiv h.numel_eq x)) ((Shape.reshapeEquiv h.numel_eq).symm i)
    simp only [Equiv.apply_symm_apply] at this
    rw [← this]
    show m.view.read V _ i = m.view.read V _ _
    simp

/-! ## The rules -/

variable {α : Type} {Q : α → sProp 𝕄}

/-- The weakest precondition on a core, at the region's definitions. -/
abbrev wpp (c : Dev nD) (p : Prog (TpuEff nD τ sig (Elt Bits) Λ₀ .tc) α) (Q : α → sProp 𝕄) : sProp 𝕄 :=
  wp frame (wpE (defs₀ (F := Bits)) Variants.none (c : Thread nD τ) none) Set.univ p Q

theorem wpp_ret (x : α) : Q x ⊢ wpp c (pure x) Q := by
  rw [wpp, wp_pure]; exact fupd_intro

/-- A load through a rectangle. -/
theorem wpp_load {cs : CoreSpace} {m : Memref sig .tc cs s e} {r : LoadRect s} {hl} {β : Type}
    {k : (r.shape.Idx → V e) → Prog (TpuEff nD τ sig (Elt Bits) Λ₀ .tc) α} {I : Finset s.Idx} {q : PosShare TreeShare} {X : s.Idx → V e}
    (hI : r.set ⊆ I) :
    mpt c m I q X ⊢ iprop((mpt c m I q X -∗ wpp c (k (fun x => X (r.idx x))) Q) -∗ wpp c (Prog.lift (.load m r hl) >>= k) Q) := by
  have h := wp_load (defs := defs₀ (F := Bits)) Variants.none (c : Thread nD τ) none (Γ := .empty) Set.univ (Q := Q) (m := m) (r := r) (hl := hl) (k := k)
    (q := q) (f := put m X) (S := I.map m.view.emb) (Finset.map_subset_map.2 hI)
  have e1 : m.view.readAt V r (put m X) = fun x => X (r.idx x) := by
    funext x; rw [View.readAt_apply, read_put]
  rw [e1] at h
  exact h

/-- A load of one word of scalar memory. -/
theorem wpp_smemLoad {m : Memref sig .tc .smem s e} {r : Rect s} {h1 hp}
    {k : V e → Prog (TpuEff nD τ sig (Elt Bits) Λ₀ .tc) α} {q : PosShare TreeShare} {X : s.Idx → V e} {i : s.Idx}
    (hi : ∀ x, r.emb x = i) :
    mpt c m Finset.univ q X ⊢ iprop((mpt c m Finset.univ q X -∗ wpp c (k (X i)) Q) -∗ wpp c (smemLoad m r h1 hp >>= k) Q) := by
  have h := wp_load_rect (defs := defs₀ (F := Bits)) Variants.none (c : Thread nD τ) none (Γ := .empty) Set.univ (Q := Q) (m := m) (r := r)
    (hl := View.loadsAt_rect (View.loads_smem_one hp h1)) (k := fun f => k (f (Shape.Idx.first (h1.symm ▸ Nat.one_pos))))
    (q := q) (f := put m X) (S := Finset.univ.map m.view.emb) (View.set_slice_subset _ _)
  have e1 : (m.access r).read V (put m X) (Shape.Idx.first (h1.symm ▸ Nat.one_pos)) = X i := by
    rw [← hi (Shape.Idx.first (h1.symm ▸ Nat.one_pos))]
    exact congrFun (read_put m X) _
  rw [e1] at h
  exact h

/-- An unmasked store through a rectangle. -/
theorem wpp_store {cs : CoreSpace} {m : Memref sig .tc cs s e} {r : Rect s} {w : r.shape.Idx → V e} {hx hm}
    {k : PUnit → Prog (TpuEff nD τ sig (Elt Bits) Λ₀ .tc) α} {I : Finset s.Idx} {X Y : s.Idx → V e}
    (hI : r.set ⊆ I) (hin : ∀ x, Y (r.emb x) = w x) (hout : ∀ i ∈ I, i ∉ r.set → Y i = X i) :
    mpt c m I fullShare X ⊢ iprop((mpt c m I fullShare Y -∗ wpp c (k ⟨⟩) Q) -∗ wpp c (Prog.lift (.store m r w Finset.univ hx hm) >>= k) Q) := by
  have h := wp_store (defs := defs₀ (F := Bits)) Variants.none (c : Thread nD τ) none (Γ := .empty) Set.univ (Q := Q) (m := m) (r := r) (w := w)
    (Mk := Finset.univ) (hx := hx) (hm := hm) (k := k) (f := put m X) (S := I.map m.view.emb) (by
      rw [View.setOn_univ, View.set_slice]; exact Finset.map_subset_map.2 hI)
  have e1 : ((m.view.loc (c : Thread nD τ) ↦[I.map m.view.emb]{fullShare} ((m.access r).write V (put m X) w Finset.univ)) : sProp 𝕄)
      = mpt c m I fullShare Y := by
    refine mpt_of m I fullShare _ Y fun i hi => ?_
    by_cases hr : i ∈ r.set
    · rw [← Rect.map_emb_univ] at hr
      obtain ⟨x, -, rfl⟩ := Finset.mem_map.1 hr
      rw [hin]
      exact View.read_slice_write_emb r (put m X) w (Finset.mem_univ x)
    · rw [hout i hi hr, View.read_apply, View.write_of_not_mem]
      · rw [← View.read_apply, read_put]
      · rw [View.setOn_univ, View.set_slice]
        intro hmem
        obtain ⟨y, hy, hyi⟩ := Finset.mem_map.1 hmem
        exact hr (m.view.emb.injective hyi ▸ hy)
  rw [← e1]
  exact h

/-- A fact the program takes for granted. -/
theorem wpp_assume {P : Prop} {d : Decidable P} {k : PLift P → Prog (TpuEff nD τ sig (Elt Bits) Λ₀ .tc) α} (h : P) :
    wpp c (k ⟨h⟩) Q ⊢ wpp c (Prog.lift (.assume P d) >>= k) Q :=
  wp_assume Variants.none (c : Thread nD τ) none Set.univ h

/-- Issuing the next transfer of a batch: the source's elements at a share, the destination's, and the batch. -/
theorem wpp_issue {sp' : Space} {src : Memref sig .tc sp s e} {dst : Memref sig .tc sp' s e} {sm : SemLoc sig} {h1 h2 h3}
    {k : PUnit → Prog (TpuEff nD τ sig (Elt Bits) Λ₀ .tc) α} {q : PosShare TreeShare} {X Y : s.Idx → V e} {n : ℕ}
    {D : Fin n → sProp 𝕄} {j : ℕ} (N : ℕ) (hN : dst.view.amount sm = N) (hj : j < n)
    (hD : iprop(mpt c dst Finset.univ fullShare X ∗ mpt c src Finset.univ q X) ⊢ D ⟨j, hj⟩) :
    iprop(mpt c src Finset.univ q X ∗ mpt c dst Finset.univ fullShare Y ∗ Transfers.Batch EC (c : Thread nD τ) sm () N D j 0)
      ⊢ iprop((Transfers.Batch EC (c : Thread nD τ) sm () N D (j + 1) 0 -∗ wpp c (k ⟨⟩) Q)
          -∗ wpp c (Prog.lift (TpuEff.enqueueDma src (.here dst) sm h1 h2 h3) >>= k) Q) := by
  refine Transfers.wp_dmaBatch EC Variants.none (c : Thread nD τ) none (src := src) (dst := dst) (via := .same) () N hN (Finset.Subset.refl _) (D := D) (j := j) (u := 0) hj (Nat.zero_le _) ?_
  refine .trans ?_ hD
  have e1 : ((dst.view.loc (c : Thread nD τ) ↦[dst.view.set]{fullShare} (dst.view.write V (put dst Y) (ReadAs.same.apply (src.view.read V (put src X))) Finset.univ)) : sProp 𝕄)
      = mpt c dst Finset.univ fullShare X := by
    refine mpt_of dst Finset.univ fullShare _ X fun i _ => ?_
    rw [View.read_write_univ, read_put]
  exact sep_mono (Entails.of_eq e1) .rfl

/-- A wait for one more transfer of a batch. -/
theorem wpp_wait {sp' : Space} {s' : Shape} {e' : EltTy} {sem : DmaSem sig} {srcw : Memref sig .tc sp' s' e'} {dstw : Memref sig .tc sp s e} {h1 h2}
    {k : PUnit → Prog (TpuEff nD τ sig (Elt Bits) Λ₀ .tc) α} {n : ℕ} {D : Fin n → sProp 𝕄} {j u : ℕ} {W : Waits sig Unit} (N : ℕ)
    (hN : dstw.view.dmaCredit = N) (hu : u + N ≤ N * j) :
    iprop(Transfers.Batch EC (c : Thread nD τ) (.dma sem) () N D j u ∗ owes (c : Thread nD τ) 0 W)
      ⊢ iprop((iprop(Transfers.Batch EC (c : Thread nD τ) (.dma sem) () N D j (u + N) ∗ owes (c : Thread nD τ) 0 (insert (SemLoc.dma sem, ()) W)) -∗ wpp c (k ⟨⟩) Q)
          -∗ wpp c (Prog.lift (TpuEff.waitDma2 sem srcw dstw h1 h2) >>= k) Q) := by
  have := Transfers.wp_waitBatchMul EC Variants.none (c : Thread nD τ) none (defs := defs₀ (F := Bits)) (Q := Q) (k := k) (sem := sem) (srcw := srcw) (dstw := dstw) (hsrc := h1) (hdst := h2) () (N := N) (D := D) (j := j) (u := u) 1 (by rw [hN, Nat.one_mul]) (by omega) (W := W)
  rw [Nat.one_mul] at this
  exact this

/-- A counted loop. -/
theorem wpp_for {l : Scf.Loop 32} {hok} {σ : Type} {init : σ} {body : Fin l.trips → σ → Prog (TpuEff nD τ sig (Elt Bits) Λ₀ .tc) σ}
    {kk : σ → Prog (TpuEff nD τ sig (Elt Bits) Λ₀ .tc) α} (I : Nat → σ → sProp 𝕄)
    (hbody : ∀ (k : Fin l.trips) (acc : σ), I k acc ⊢ wpp c (body k acc) (I (k.val + 1))) :
    I 0 init ⊢ iprop((∀ acc, I l.trips acc -∗ wpp c (kk acc) Q) -∗ wpp c (Scf.Loop.for l hok init body >>= kk) Q) :=
  Scf.wp_for_bind frame (wpE (defs₀ (F := Bits)) Variants.none (c : Thread nD τ) none) Set.univ l.lb l.ub l.st hok init body I hbody

/-- A counted loop of no trips. -/
theorem wpp_for_none {l : Scf.Loop 32} {hok} {σ : Type} {init : σ} {body : Fin l.trips → σ → Prog (TpuEff nD τ sig (Elt Bits) Λ₀ .tc) σ}
    {kk : σ → Prog (TpuEff nD τ sig (Elt Bits) Λ₀ .tc) α} (h : l.trips = 0) :
    wpp c (kk init) Q ⊢ wpp c (Scf.Loop.for l hok init body >>= kk) Q := by
  have h2 : Scf.Loop.for l hok init body = .ret init := Scf.for_eq_ret _ _ _ hok _ _ h
  rw [h2]; exact .rfl

end Cert.Proof.K
-- ==== Proof.Words.lean ====
/- The words the kernel counts and addresses with, as natural numbers. -/
module

public import proofs.«01_k».proof.Defs
public import Idealize.ShloMosaic.Lib.LoopRemainder
public import Idealize.ShloMosaic.Lib.Routing.Words
public import Idealize.ShloMosaic.Lib.SortNet.Extract

@[expose] public section

namespace Cert.Proof.K

open Cert.Kernel
open Idealize.ShloMosaic

/-- A length clipped to the 2048 positions of a sequence. -/
def clipLen (len : BitVec 32) : Nat := (Scalar.minsi 2048#32 (Scalar.maxsi 0#32 len)).toNat

theorem clip_spec (len : BitVec 32) :
    clipLen len = (min 2048 (max 0 len.toInt)).toNat := by
  have h : (Scalar.minsi 2048#32 (Scalar.maxsi 0#32 len)).toInt = min 2048 (max 0 len.toInt) := by
    show (IntOp.minsi 2048#32 (IntOp.maxsi 0#32 len)).toInt = _
    rw [SortNet.toInt_minsi, SortNet.toInt_maxsi]; rfl
  have h2 := BitVec.toInt_eq_toNat_cond (x := Scalar.minsi 2048#32 (Scalar.maxsi 0#32 len))
  have h3 := (Scalar.minsi 2048#32 (Scalar.maxsi 0#32 len)).isLt
  show (Scalar.minsi 2048#32 (Scalar.maxsi 0#32 len)).toNat = _
  rw [← h]
  split at h2 <;> omega

theorem clipLen_le (len : BitVec 32) : clipLen len ≤ 2048 := by rw [clip_spec]; omega

theorem clip_eq (len : BitVec 32) :
    Scalar.minsi 2048#32 (Scalar.maxsi 0#32 len) = BitVec.ofNat 32 (clipLen len) := by
  simp [clipLen]

/-- The windows of 128 positions of a sequence that hold a live position. -/
def nwin (len : BitVec 32) : Nat := (clipLen len + 127) / 128
/-- The pages of a sequence that hold a live position. -/
def npages (len : BitVec 32) : Nat := (clipLen len + 15) / 16
/-- The live pages of window `w`. -/
def npg (w : Nat) (len : BitVec 32) : Nat := min 8 (npages len - w % 16 * 8)

theorem nwin_le (len : BitVec 32) : nwin len ≤ 16 := by have := clipLen_le len; unfold nwin; omega
theorem npages_le (len : BitVec 32) : npages len ≤ 128 := by have := clipLen_le len; unfold npages; omega
theorem npg_le (w : Nat) (len : BitVec 32) : npg w len ≤ 8 := by unfold npg; omega

theorem add127_div : ∀ n : Fin 2049,
    Scalar.divsi (Scalar.addi (BitVec.ofNat 32 n.val) 127#32) 128#32 = BitVec.ofNat 32 ((n.val + 127) / 128) := by
  decide +kernel
theorem add15_div : ∀ n : Fin 2049,
    Scalar.divsi (Scalar.addi (BitVec.ofNat 32 n.val) 15#32) 16#32 = BitVec.ofNat 32 ((n.val + 15) / 16) := by
  decide +kernel

/-- The floored remainder by 16 as the kernel writes it. -/
abbrev fmod16 (w : BitVec 32) : BitVec 32 :=
  let d := Scalar.select (Scalar.cmpi .eq 16#32 0#32) 1#32 16#32
  Scalar.select (Scalar.andi (Scalar.xori (Scalar.cmpi .slt (Scalar.remsi w d) 0#32) (Scalar.cmpi .slt d 0#32))
    (Scalar.cmpi .ne (Scalar.remsi w d) 0#32)) (Scalar.addi (Scalar.remsi w d) d) (Scalar.remsi w d)

/-- The floored quotient by `d` as the kernel writes it. -/
abbrev fdiv (w d : BitVec 32) : BitVec 32 :=
  Scalar.select (Scalar.andi (Scalar.cmpi .ne
      (Scalar.subi (Scalar.extui (Scalar.cmpi .sgt w 0#32)) (Scalar.extui (Scalar.cmpi .slt w 0#32)))
      (Scalar.subi (Scalar.extui (Scalar.cmpi .sgt d 0#32)) (Scalar.extui (Scalar.cmpi .slt d 0#32))))
    (Scalar.cmpi .ne (Scalar.remsi w d) 0#32)) (Scalar.subi (Scalar.divsi w d) 1#32) (Scalar.divsi w d)

theorem fmod16_eq' : ∀ w : Fin 128, fmod16 (BitVec.ofNat 32 w.val) = BitVec.ofNat 32 (w.val % 16) := by decide +kernel
theorem fdiv16_eq' : ∀ w : Fin 128, fdiv (BitVec.ofNat 32 w.val) 16#32 = BitVec.ofNat 32 (w.val / 16) := by decide +kernel
theorem fdiv128_eq' : ∀ w : Fin 1280, fdiv (BitVec.ofNat 32 w.val) 128#32 = BitVec.ofNat 32 (w.val / 128) := by decide +kernel

theorem fmod16_eq {w : Nat} (h : w < 128) : fmod16 (BitVec.ofNat 32 w) = BitVec.ofNat 32 (w % 16) := fmod16_eq' ⟨w, h⟩
theorem fdiv16_eq {w : Nat} (h : w < 128) : fdiv (BitVec.ofNat 32 w) 16#32 = BitVec.ofNat 32 (w / 16) := fdiv16_eq' ⟨w, h⟩
theorem fdiv128_eq {w : Nat} (h : w < 1280) : fdiv (BitVec.ofNat 32 w) 128#32 = BitVec.ofNat 32 (w / 128) := fdiv128_eq' ⟨w, h⟩

theorem pages_sub' : ∀ (a : Fin 129) (c : Fin 16),
    Scalar.minsi 8#32 (Scalar.maxsi 0#32 (Scalar.subi (BitVec.ofNat 32 a.val) (Scalar.muli (BitVec.ofNat 32 c.val) 8#32)))
      = BitVec.ofNat 32 (min 8 (a.val - c.val * 8)) := by decide +kernel

/-- The windows of a sequence, as the kernel computes them. -/
abbrev wwin (len : BitVec 32) : BitVec 32 :=
  Scalar.divsi (Scalar.addi (Scalar.minsi 2048#32 (Scalar.maxsi 0#32 len)) 127#32) 128#32

theorem wwin_eq (len : BitVec 32) : wwin len = BitVec.ofNat 32 (nwin len) := by
  unfold wwin; rw [clip_eq]; exact add127_div ⟨clipLen len, by have := clipLen_le len; omega⟩

/-- The live pages of a window, as the kernel computes them. -/
abbrev wpg (w len : BitVec 32) : BitVec 32 :=
  Scalar.minsi 8#32 (Scalar.maxsi 0#32 (Scalar.subi
    (Scalar.divsi (Scalar.addi (Scalar.minsi 2048#32 (Scalar.maxsi 0#32 len)) 15#32) 16#32)
    (Scalar.muli (fmod16 w) 8#32)))

theorem wpg_eq {w : Nat} (hw : w < 128) (len : BitVec 32) :
    wpg (BitVec.ofNat 32 w) len = BitVec.ofNat 32 (npg w len) := by
  unfold wpg; rw [clip_eq, fmod16_eq hw, add15_div ⟨clipLen len, by have := clipLen_le len; omega⟩]
  exact pages_sub' ⟨npages len, by have := npages_le len; omega⟩ ⟨w % 16, by omega⟩

theorem iv01 (k : Nat) : Scf.iv 0#32 1#32 k = BitVec.ofNat 32 k := by simp [Scf.iv]
theorem iv1 (a k : Nat) : Scf.iv (BitVec.ofNat 32 a) 1#32 k = BitVec.ofNat 32 (a + k) := by
  simp [Scf.iv, BitVec.ofNat_add]

theorem toInt_nat {a : Nat} (ha : a < 2 ^ 20) : (BitVec.ofNat 32 a).toInt = a := by
  have h : (BitVec.ofNat 32 a).toNat = a := by simp; omega
  rw [BitVec.toInt_eq_toNat_of_lt (by omega), h]

/-- A loop of unit step between two numbers. -/
theorem trips_unit {a b : Nat} (ha : a < 2 ^ 20) (hb : b < 2 ^ 20) :
    Scf.trips (BitVec.ofNat 32 a) (BitVec.ofNat 32 b) 1#32 = b - a := by
  unfold Scf.trips
  rw [toInt_nat ha, toInt_nat hb, show (1#32 : BitVec 32).toInt = 1 from rfl]
  omega

theorem ok_unit {a b : Nat} (ha : a < 2 ^ 20) (hb : b < 2 ^ 20) :
    Scf.OK (BitVec.ofNat 32 a) (BitVec.ofNat 32 b) 1#32 := by
  unfold Scf.OK
  rw [trips_unit ha hb, toInt_nat ha, show (1#32 : BitVec 32).toInt = 1 from rfl]
  omega

/-- The counted loop from `lo` up, `n − lo` trips, as printed. -/
theorem loop_eq (lo n : BitVec 32) :
    Scalar.addi lo (Scalar.muli (Scalar.divsi (Scalar.subi n lo) 1#32) 1#32) = n := by
  rw [Scalar.muli_divsi_one]
  show lo + (n - lo) = _
  rw [BitVec.add_comm]; exact BitVec.sub_add_cancel n lo

theorem rem2' : ∀ t : Fin 256, Scalar.remsi (BitVec.ofNat 32 t.val) 2#32 = BitVec.ofNat 32 (t.val % 2) := by decide +kernel
theorem rem2 {t : Nat} (h : t < 256) : Scalar.remsi (BitVec.ofNat 32 t) 2#32 = BitVec.ofNat 32 (t % 2) := rem2' ⟨t, h⟩

theorem idx_toNat {n : Nat} (h : n < 2 ^ 32) : (Scalar.indexCast (BitVec.ofNat 32 n)).toNat = n := by
  show (BitVec.ofNat 32 n).toNat = n
  simpa using h
theorem toNat_ofNat32 {n : Nat} (h : n < 2 ^ 32) : (BitVec.ofNat 32 n).toNat = n := by
  simpa using h

end Cert.Proof.K
-- ==== Proof.Pay.lean ====
/- What the kernel's vector computations give, element by element. -/
module

public import proofs.«01_k».proof.Defs
public import proofs.«01_k».proof.Proof.Words
public import proofs.«01_k».proof.Proof.Gen.Kernel.Skeleton
public import Idealize.ShloMosaic.Lib.BitcastPair
public import Idealize.ShloMosaic.Lib.ValueIdx
public import Idealize.ShloMosaic.Lib.ValueLayout

@[expose] public section

noncomputable section

namespace Cert.Proof.K

open Cert.Kernel Cert.Kernel.Gen
open Idealize.ShloMosaic Idealize.ShloMosaic.ValueIdx

/-- A code by its scale, at bf16. -/
def val (p : Elt Bits .fp8e4m3) (s : Elt Bits .bf16) : Elt Bits .bf16 :=
  FloatOps.mulf (F := Bits) (φ := .bf16) (FloatOps.extf .bf16 bitsLt_fp8e4m3_bf16 p) s

/-- A scale rounded to bf16. -/
def rnd (s : Elt Bits .f32) : Elt Bits .bf16 := FloatOps.truncf (F := Bits) (φ := .f32) .bf16 bitsLt_bf16_f32 s

theorem bitcast16_apply (x : S16x128.Idx → BitVec 16) (r : Fin 8) (d : Fin 128) :
    bitcast S8x128 32 x bitcasts_S16x128_w16_S8x128_w32 (ix2 r d)
      = x (ix2 (⟨2 * r.val + 1, by omega⟩ : Fin 16) d) ++ x (ix2 (⟨2 * r.val, by omega⟩ : Fin 16) d) := by
  rw [bitcast_16_32]
  congr 2 <;>
  · funext c
    match c with
    | ⟨0, _⟩ => exact Fin.ext (Shape.Bitcasts.srcIdx_row _ _ _ _ ⟨0, Nat.zero_lt_two⟩ rfl)
    | ⟨1, _⟩ => exact Fin.ext (Shape.Bitcasts.srcIdx_other _ _ _ _ ⟨1, Nat.one_lt_two⟩ (by show ¬ 1 + 2 = 2; omega))

theorem bitcast32_apply (x : S8x128.Idx → BitVec 32) (r : Fin 16) (d : Fin 128) :
    bitcast S16x128 16 x bitcasts_S8x128_w32_S16x128_w16 (ix2 r d)
      = (x (ix2 (⟨r.val / 2, by omega⟩ : Fin 8) d)).extractLsb' (16 * (r.val % 2)) 16 := by
  rw [bitcast_32_16]
  show (x _).extractLsb' (16 * (r.val % 2)) 16 = _
  congr 2
  funext c
  match c with
  | ⟨0, _⟩ => exact Fin.ext (Shape.Bitcasts.srcIdx_row _ _ _ _ ⟨0, Nat.zero_lt_two⟩ rfl)
  | ⟨1, _⟩ => exact Fin.ext (Shape.Bitcasts.srcIdx_other _ _ _ _ ⟨1, Nat.one_lt_two⟩ (by show ¬ 1 + 2 = 2; omega))

/-- One block of a scale table: row `r` packs rows `2r + 1` and `2r` of the scales, each rounded. -/
theorem pay1_apply (v : Vec Bits S1x1x16x128 .f32) (a b c : Fin 1) (r : Fin 8) (d : Fin 128) :
    k0_pay1 v (ix5 a b c r d)
      = (rnd (v (ix4 0 0 (⟨2 * r.val + 1, by omega⟩ : Fin 16) d)) : BitVec 16) ++ (rnd (v (ix4 0 0 (⟨2 * r.val, by omega⟩ : Fin 16) d)) : BitVec 16) := by
  unfold k0_pay1
  rw [shapeCast_apply _ _ _ (ix2 r d) (by
    rw [Shape.rowMajor_val_five, Shape.rowMajor_val_two]
    have := a.isLt; have := b.isLt; have := c.isLt
    show r.val * 128 + d.val = (((a.val * 1 + b.val) * 1 + c.val) * 8 + r.val) * 128 + d.val
    omega), bitcast16_apply]
  have e (q : Fin 16) : shapeCast S16x128 v shapeCasts_S1x1x16x128_S16x128 (ix2 q d) = v (ix4 0 0 q d) :=
    shapeCast_apply _ _ _ _ (by
      rw [Shape.rowMajor_val_four, Shape.rowMajor_val_two]
      show ((0 * 1 + 0) * 16 + q.val) * 128 + d.val = q.val * 128 + d.val
      omega)
  rw [← e, ← e]
  rfl

theorem keep_lo (n : Fin 8) (v : Fin 4097) :
    Scalar.select (Scalar.cmpi .slt (BitVec.ofNat 32 n.val * 2#32 + 1#32) (BitVec.ofNat 32 v.val - 2048#32)) (4294967295#32 : BitVec 32)
      (Scalar.select (Scalar.cmpi .slt (BitVec.ofNat 32 n.val * 2#32) (BitVec.ofNat 32 v.val - 2048#32)) 65535#32 0#32)
    = if 2 * n.val + 1 + 2048 < v.val then 4294967295#32 else if 2 * n.val + 2048 < v.val then 65535#32 else 0#32 := by
  revert n v; decide +kernel

/-- The mask: both halves of word `r` while row `2r + 1` is live, the low half while row `2r` is. -/
theorem keep_apply (L s : Nat) (hL : L ≤ 2048) (hs : s < 2048) (r : Fin 8) (d : Fin 128) :
    k0_pay182 (BitVec.ofNat 32 L) (BitVec.ofNat 32 s) (ix2 r d)
      = if s + 2 * r.val + 1 < L then 4294967295#32 else if s + 2 * r.val < L then 65535#32 else 0#32 := by
  have e : BitVec.ofNat 32 (L + 2048 - s) - 2048#32 = BitVec.ofNat 32 L - BitVec.ofNat 32 s := by
    apply BitVec.eq_of_toNat_eq
    simp only [BitVec.toNat_sub, BitVec.toNat_ofNat]
    omega
  have := keep_lo r ⟨L + 2048 - s, by omega⟩
  dsimp only at this
  rw [e] at this
  have e2 : k0_pay182 (BitVec.ofNat 32 L) (BitVec.ofNat 32 s) (ix2 r d) =
    Scalar.select (Scalar.cmpi .slt (BitVec.ofNat 32 (0 * 8 + r.val) * 2#32 + 1#32) (BitVec.ofNat 32 L - BitVec.ofNat 32 s)) (4294967295#32 : BitVec 32)
      (Scalar.select (Scalar.cmpi .slt (BitVec.ofNat 32 (0 * 8 + r.val) * 2#32) (BitVec.ofNat 32 L - BitVec.ofNat 32 s)) 65535#32 0#32) := rfl
  rw [Nat.zero_mul, Nat.zero_add] at e2
  rw [e2, this]
  have h1 : (2 * r.val + 1 + 2048 < L + 2048 - s) ↔ (s + 2 * r.val + 1 < L) := by omega
  have h2 : (2 * r.val + 2048 < L + 2048 - s) ↔ (s + 2 * r.val < L) := by omega
  simp only [h1, h2]

theorem lane_eq' : ∀ w : Fin 1280,
    (let d := Scalar.select (Scalar.cmpi .eq 128#32 0#32) 1#32 128#32
     let v350 := Scalar.remsi (BitVec.ofNat 32 w.val) d
     let v := Scalar.select (Scalar.andi (Scalar.xori (Scalar.cmpi .slt v350 0#32) (Scalar.cmpi .slt d 0#32)) (Scalar.cmpi .ne v350 0#32)) (Scalar.addi v350 d) v350
     (Scalar.select (Scalar.cmpi .slt v 0#32) (v + 128#32) v).toNat % 128) = w.val % 128 := by decide +kernel

/-- The half of a packed table word that row `r` of a page reads. -/
def half (w : BitVec 32) (r : Nat) : BitVec 16 := w.extractLsb' (16 * (r % 2)) 16

theorem half_append (a b : BitVec 16) (r : Nat) : half (a ++ b) r = if r % 2 = 0 then b else a := by
  rcases Nat.mod_two_eq_zero_or_one r with h | h <;> simp only [half, h]
  · rw [if_pos trivial]; apply BitVec.eq_of_getLsbD_eq; intro i hi
    rw [BitVec.getLsbD_extractLsb', BitVec.getLsbD_append]
    simp only [hi, decide_true, Bool.true_and, Nat.mul_zero, Nat.zero_add, if_true]
  · rw [if_neg (by decide)]; apply BitVec.eq_of_getLsbD_eq; intro i hi
    rw [BitVec.getLsbD_extractLsb', BitVec.getLsbD_append]
    simp only [hi, decide_true, Bool.true_and, Nat.mul_one]
    rw [if_neg (by omega), Nat.add_sub_cancel_left]

theorem half_mask (w : BitVec 32) (L s k r : Nat) (hk : k = r / 2) :
    (half (w &&& (if s + 2 * k + 1 < L then 4294967295#32 else if s + 2 * k < L then 65535#32 else 0#32)) r)
      = if s + r < L then half w r else 0#16 := by
  subst hk
  have hm : ∀ w : BitVec 32, w &&& 4294967295#32 = w := by intro w; exact BitVec.and_allOnes
  rcases Nat.mod_two_eq_zero_or_one r with h | h
  · have e : 2 * (r / 2) = r := by omega
    rw [e]
    by_cases h1 : s + r + 1 < L
    · rw [if_pos h1, if_pos (show s + r < L by omega), hm]
    · rw [if_neg h1]
      by_cases h2 : s + r < L
      · rw [if_pos h2, if_pos h2]; simp only [half, h]
        apply BitVec.eq_of_getLsbD_eq; intro i hi
        simp only [BitVec.getLsbD_extractLsb', hi, BitVec.getLsbD_and, decide_true, Bool.true_and, Nat.mul_zero, Nat.zero_add]
        have : ∀ i : Fin 16, (65535#32).getLsbD i = true := by decide
        rw [this ⟨i, hi⟩, Bool.and_true]
      · rw [if_neg h2, if_neg h2]; simp [half]
  · have e : 2 * (r / 2) + 1 = r := by omega
    rw [show s + 2 * (r / 2) + 1 = s + r by omega]
    by_cases h1 : s + r < L
    · rw [if_pos h1, if_pos h1, hm]
    · rw [if_neg h1, if_neg h1]
      by_cases h2 : s + 2 * (r / 2) < L
      · rw [if_pos h2]; simp only [half, h]
        apply BitVec.eq_of_getLsbD_eq; intro i hi
        simp only [BitVec.getLsbD_extractLsb', hi, BitVec.getLsbD_and, decide_true, Bool.true_and, Nat.mul_one]
        have : ∀ i : Fin 16, (65535#32).getLsbD (16 + i) = false := by decide
        rw [this ⟨i, hi⟩, Bool.and_false]; simp
      · rw [if_neg h2]; simp [half]

/-- A half of two values packed is the value of that parity. -/
theorem half_pair (x : S16x128.Idx → BitVec 16) (r : Fin 16) (d : Fin 128) :
    half (bitcast S8x128 32 x bitcasts_S16x128_w16_S8x128_w32 (ix2 (⟨r.val / 2, by omega⟩ : Fin 8) d)) r = x (ix2 r d) := by
  rw [bitcast16_apply, half_append]
  split
  · congr 2; apply Fin.ext; show 2 * (r.val / 2) = r.val; omega
  · congr 2; apply Fin.ext; show 2 * (r.val / 2) + 1 = r.val; omega

/-- The values of one page and head: the codes by their scales while the row is live, zero after. -/
theorem core_apply (g : Fin 2) (p : Nat) (hp : p < 1280) (L s : Nat) (hL : L ≤ 2048) (hs : s < 2048)
    (x : FVec Bits S32x128 .bf16) (tb : S8x128.Idx → BitVec 32) (y : FVec Bits S16x128 .bf16) (r : Fin 16) (d : Fin 128)
    (hy : y (ix2 r d) = x (ix2 (⟨16 * g.val + r.val, by omega⟩ : Fin 32) d)) :
    bitcast S16x128 16 (andi (bitcast S8x128 32 (bitcastToInt (mulf y
        (bitcastToFloat .bf16 (bitcast S16x128 16 (dynamicGather (s := S8x128) 1 tb
          (shapeCast S8x128 (shapeCast S8x128x1 (select (cmpi .slt (k0_pay181 (F := Bits) (BitVec.ofNat 32 p)) (broadcast S8x128 0#32))
            (addi (k0_pay181 (F := Bits) (BitVec.ofNat 32 p)) (broadcast S8x128 128#32)) (k0_pay181 (F := Bits) (BitVec.ofNat 32 p))) shapeCasts_S8x128_S8x128x1) shapeCasts_S8x128x1_S8x128))
          bitcasts_S8x128_w32_S16x128_w16)) : FVec Bits S16x128 .bf16)) bitcasts_S16x128_w16_S8x128_w32)
        (k0_pay182 (BitVec.ofNat 32 L) (BitVec.ofNat 32 s))) bitcasts_S8x128_w32_S16x128_w16 (ix2 r d)
      = if s + r.val < L then FloatOps.mulf (F := Bits) (φ := .bf16) (x (ix2 (⟨16 * g.val + r.val, by omega⟩ : Fin 32) d))
          (half (tb (ix2 (⟨r.val / 2, by omega⟩ : Fin 8) (⟨p % 128, Nat.mod_lt _ (by decide)⟩ : Fin 128))) r) else (0#16 : BitVec 16) := by
  rw [bitcast32_apply]
  show half (_ &&& _) r = _
  rw [keep_apply L s hL hs, half_mask _ L s _ r.val rfl, half_pair]
  congr 1
  show FloatOps.mulf (y (ix2 r d)) _ = _
  rw [hy]
  congr 1
  refine (bitcast32_apply _ r d).trans ?_
  show half _ r = _
  congr 1
  show tb _ = tb _
  congr 1
  funext a
  match a with
  | ⟨0, _⟩ => rfl
  | ⟨1, _⟩ =>
    apply Fin.ext
    have := lane_eq' ⟨p, hp⟩
    refine Eq.trans ?_ this
    show BitVec.toNat (w := 32) (shapeCast S8x128 (shapeCast S8x128x1 _ shapeCasts_S8x128_S8x128x1) shapeCasts_S8x128x1_S8x128 (ix2 _ d)) % 128 = _
    rw [shapeCast_apply _ _ _ (ix3 (⟨r.val / 2, by omega⟩ : Fin 8) d (0 : Fin 1)) (by
        rw [Shape.rowMajor_val_three, Shape.rowMajor_val_two]; show (_ * 128 + _) * 1 + 0 = _ * 128 + _; rw [Nat.mul_one]; rfl),
      shapeCast_apply _ _ _ (ix2 (⟨r.val / 2, by omega⟩ : Fin 8) d) (by
        rw [Shape.rowMajor_val_three, Shape.rowMajor_val_two]; show _ * 128 + _ = (_ * 128 + _) * 1 + 0; rw [Nat.mul_one]; rfl)]
    rfl

/-- The first head of a pair. -/
theorem pay192_apply (p : Nat) (hp : p < 1280) (L s : Nat) (hL : L ≤ 2048) (hs : s < 2048)
    (x : Vec Bits S1x1x1x32x128 .fp8e4m3) (tb : Vec Bits S1x1x1x8x128 .i32) (a b c : Fin 1) (r : Fin 16) (d : Fin 128) :
    k0_pay192 (k0_pay181 (F := Bits) (BitVec.ofNat 32 p)) (k0_pay182 (BitVec.ofNat 32 L) (BitVec.ofNat 32 s)) (k0_pay183 x) tb (ix5 a b c r d)
      = if s + r.val < L then val (x (ix5 0 0 0 (⟨16 * 0 + r.val, by omega⟩ : Fin 32) d))
          (half (tb (ix5 0 0 0 (⟨r.val / 2, by omega⟩ : Fin 8) (⟨p % 128, Nat.mod_lt _ (by decide)⟩ : Fin 128))) r) else (0#16 : BitVec 16) := by
  unfold k0_pay192
  rw [shapeCast_apply _ _ _ (ix2 r d) (by
    rw [Shape.rowMajor_val_five, Shape.rowMajor_val_two]
    have := a.isLt; have := b.isLt; have := c.isLt
    show r.val * 128 + d.val = (((a.val * 1 + b.val) * 1 + c.val) * 16 + r.val) * 128 + d.val
    omega)]
  refine (core_apply 0 p hp L s hL hs (k0_pay183 x) _ _ r d ?_).trans ?_
  · show k0_pay183 x _ = k0_pay183 x _
    congr 1
    funext a
    match a with
    | ⟨0, _⟩ => apply Fin.ext; show 0 + r.val = 16 * 0 + r.val; omega
    | ⟨1, _⟩ => apply Fin.ext; show 0 + d.val = d.val; omega
  · congr 1
    unfold val k0_pay183
    show FloatOps.mulf (F := Bits) (φ := .bf16) (FloatOps.extf .bf16 bitsLt_fp8e4m3_bf16 (shapeCast S32x128 x shapeCasts_S1x1x1x32x128_S32x128 _)) (half (shapeCast S8x128 tb shapeCasts_S1x1x1x8x128_S8x128 _) _ : BitVec 16) = _
    rw [shapeCast_apply _ _ _ (ix5 0 0 0 (⟨16 * 0 + r.val, by omega⟩ : Fin 32) d) (by
      rw [Shape.rowMajor_val_five, Shape.rowMajor_val_two]; show (((0 * 1 + 0) * 1 + 0) * 32 + (16 * 0 + r.val)) * 128 + d.val = (0 + r.val) * 128 + d.val
      omega), shapeCast_apply _ _ _ (ix5 0 0 0 (⟨r.val / 2, by omega⟩ : Fin 8) (⟨p % 128, Nat.mod_lt _ (by decide)⟩ : Fin 128)) (by
      rw [Shape.rowMajor_val_five, Shape.rowMajor_val_two]; show (((0 * 1 + 0) * 1 + 0) * 8 + r.val / 2) * 128 + p % 128 = r.val / 2 * 128 + p % 128
      omega)]

/-- The second head of a pair. -/
theorem pay186_apply (p : Nat) (hp : p < 1280) (L s : Nat) (hL : L ≤ 2048) (hs : s < 2048)
    (x : Vec Bits S1x1x1x32x128 .fp8e4m3) (tb : Vec Bits S1x1x1x8x128 .i32) (a b c : Fin 1) (r : Fin 16) (d : Fin 128) :
    k0_pay186 (k0_pay181 (F := Bits) (BitVec.ofNat 32 p)) (k0_pay182 (BitVec.ofNat 32 L) (BitVec.ofNat 32 s)) (k0_pay183 x) tb (ix5 a b c r d)
      = if s + r.val < L then val (x (ix5 0 0 0 (⟨16 * 1 + r.val, by omega⟩ : Fin 32) d))
          (half (tb (ix5 0 0 0 (⟨r.val / 2, by omega⟩ : Fin 8) (⟨p % 128, Nat.mod_lt _ (by decide)⟩ : Fin 128))) r) else (0#16 : BitVec 16) := by
  unfold k0_pay186
  rw [shapeCast_apply _ _ _ (ix2 r d) (by
    rw [Shape.rowMajor_val_five, Shape.rowMajor_val_two]
    have := a.isLt; have := b.isLt; have := c.isLt
    show r.val * 128 + d.val = (((a.val * 1 + b.val) * 1 + c.val) * 16 + r.val) * 128 + d.val
    omega)]
  refine (core_apply 1 p hp L s hL hs (k0_pay183 x) _ _ r d ?_).trans ?_
  · show k0_pay183 x _ = k0_pay183 x _
    congr 1
    funext a
    match a with
    | ⟨0, _⟩ => apply Fin.ext; show 16 + r.val = 16 * 1 + r.val; omega
    | ⟨1, _⟩ => apply Fin.ext; show 0 + d.val = d.val; omega
  · congr 1
    unfold val k0_pay183
    show FloatOps.mulf (F := Bits) (φ := .bf16) (FloatOps.extf .bf16 bitsLt_fp8e4m3_bf16 (shapeCast S32x128 x shapeCasts_S1x1x1x32x128_S32x128 _)) (half (shapeCast S8x128 tb shapeCasts_S1x1x1x8x128_S8x128 _) _ : BitVec 16) = _
    rw [shapeCast_apply _ _ _ (ix5 0 0 0 (⟨16 * 1 + r.val, by omega⟩ : Fin 32) d) (by
      rw [Shape.rowMajor_val_five, Shape.rowMajor_val_two]; show (((0 * 1 + 0) * 1 + 0) * 32 + (16 * 1 + r.val)) * 128 + d.val = (16 * 1 + r.val) * 128 + d.val
      omega), shapeCast_apply _ _ _ (ix5 0 0 0 (⟨r.val / 2, by omega⟩ : Fin 8) (⟨p % 128, Nat.mod_lt _ (by decide)⟩ : Fin 128)) (by
      rw [Shape.rowMajor_val_five, Shape.rowMajor_val_two]; show (((0 * 1 + 0) * 1 + 0) * 8 + r.val / 2) * 128 + p % 128 = r.val / 2 * 128 + p % 128
      omega)]

end Cert.Proof.K
-- ==== Proof.Spec.lean ====
/- What the kernel's buffers hold, the pieces its copies move, and the copies' rules. -/
module

public import proofs.«01_k».proof.Proof.Base
public import proofs.«01_k».proof.Proof.Words
public import proofs.«01_k».proof.Proof.Pay
public import Idealize.ShloMosaic.Lib.ValueIdx
public import Idealize.ShloMosaic.Lib.ValueLayout

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

local notation "V" => Elt Bits
local notation "𝕄" => MT nD τ sig Unit (Elt Bits) ℕ (Pipeline.UD sig nD τ) ℕ

/-- The kernel's operands and scratch. -/
structure Mems where
  pt : Memref sig .tc .smem S8x128 .i32
  hpt : pt.IsWhole
  len : Memref sig .tc .smem S8 .i32
  hlen : len.IsWhole
  pool : Fin 2 → Memref sig .tc .hbm S1280x1728x128 .fp8e4m3
  hpool : ∀ k, (pool k).IsWhole
  scl : Fin 2 → Memref sig .tc .hbm S108x16x1280 .f32
  hscl : ∀ k, (scl k).IsWhole
  out : Fin 2 → Memref sig .tc .hbm S8x108x2048x128 .bf16
  hout : ∀ k, (out k).IsWhole
  work : Memref sig .tc .smem S128 .i32
  hwork : work.IsWhole
  pages : Memref sig .tc .vmem S2x2x8x1728x128 .fp8e4m3
  hpages : pages.IsWhole
  chunks : Memref sig .tc .vmem S2x2x108x128x128 .bf16
  hchunks : chunks.IsWhole
  tables : Memref sig .tc .vmem S2x10x108x8x128 .i32
  htables : tables.IsWhole
  stage : Memref sig .tc .vmem S2x12x16x1280 .f32
  hstage : stage.IsWhole
  zeros : Memref sig .tc .vmem S108x128x128 .bf16
  hzeros : zeros.IsWhole
  rsem : DmaSems sig S2x2
  wsem : DmaSems sig S2x2
  ssem : DmaSems sig S2
  zsem : DmaSems sig S_
  credit : sig.dmaCredit .tc (Kind.tc.table .hbm) (out 0).view.buf S108x128x128 .bf16 = sig.dmaCredit .tc (Kind.tc.table .hbm) (out 1).view.buf S108x128x128 .bf16

/-- What the operands hold. -/
structure Data where
  PT : S8x128.Idx → BitVec 32
  LEN : S8.Idx → BitVec 32
  P : Fin 2 → S1280x1728x128.Idx → V .fp8e4m3
  SC : Fin 2 → S108x16x1280.Idx → V .f32
  hPT : ∀ i, (PT i).toNat < 1280

namespace Data
variable (Δ : Data)

/-- Row `b` of the lengths. -/
def ln (b : ℕ) : BitVec 32 := Δ.LEN (ix1 (Fin.ofNat 8 b))
/-- The page at place `s` of row `b`. -/
def pgF (b s : ℕ) : Fin 1280 := ⟨(Δ.PT (ix2 (Fin.ofNat 8 b) (Fin.ofNat 128 s))).toNat, Δ.hPT _⟩
/-- Page `t` of window `w`. -/
def pw (w t : ℕ) : ℕ := (Δ.pgF (w / 16) (w % 16 * 8 + t)).val
theorem pw_lt (w t : ℕ) : Δ.pw w t < 1280 := (Δ.pgF _ _).isLt
/-- The pages window `w` needs. -/
def np (w : ℕ) : ℕ := npg w (Δ.ln (w / 16))
theorem np_le (w : ℕ) : Δ.np w ≤ 8 := npg_le _ _

/-- The result at row `b`, head `h`, place `s`, lane `d`. -/
def res (kv : Fin 2) (b : ℕ) (h : Fin 108) (s : ℕ) (d : Fin 128) : V .bf16 :=
  if s < clipLen (Δ.ln b) then
    val (Δ.P kv (ix3 (Δ.pgF b (s / 16)) (⟨h.val * 16 + s % 16, by have := h.isLt; omega⟩ : Fin 1728) d))
      (rnd (Δ.SC kv (ix3 h (⟨s % 16, by omega⟩ : Fin 16) (Δ.pgF b (s / 16)))))
  else (0 : BitVec 16)
/-- The kernel's results. -/
def TO (kv : Fin 2) (i : S8x108x2048x128.Idx) : V .bf16 := Δ.res kv (i 0).val (i 1) (i 2).val (i 3)
/-- The packed scale tables. -/
def TB (i : S2x10x108x8x128.Idx) : BitVec 32 :=
  let pg : Fin 1280 := ⟨(i 1).val * 128 + (i 4).val, by have h1 : (i 1).val < 10 := (i 1).isLt; have h4 : (i 4).val < 128 := (i 4).isLt; omega⟩
  let r : Fin 8 := i 3
  (rnd (Δ.SC (i 0) (ix3 (i 2) (⟨2 * r.val + 1, by omega⟩ : Fin 16) pg)) : BitVec 16)
    ++ (rnd (Δ.SC (i 0) (ix3 (i 2) (⟨2 * r.val, by omega⟩ : Fin 16) pg)) : BitVec 16)
/-- The page slots of window `w`. -/
def PGB (kv : Fin 2) (w : ℕ) (i : S2x2x8x1728x128.Idx) : V .fp8e4m3 :=
  Δ.P kv (ix3 (⟨Δ.pw w (i 2).val, Δ.pw_lt _ _⟩ : Fin 1280) (i 3) (i 4))
/-- The chunk of window `w`. -/
def CHB (kv : Fin 2) (w : ℕ) (i : S2x2x108x128x128.Idx) : V .bf16 :=
  Δ.res kv (w / 16) (i 2) (w % 16 * 128 + (i 3).val) (i 4)
/-- A scale stage: heads from `12 b`. -/
def STG (kv : Fin 2) (b : ℕ) (i : S2x12x16x1280.Idx) : V .f32 :=
  Δ.SC kv (ix3 (Fin.ofNat 108 (12 * b + (i 1).val)) (i 2) (i 3))
end Data

/-! ## Pieces -/

def poolset (p : ℕ) : Finset S1280x1728x128.Idx := Finset.univ.filter fun i => (i 0).val = p
def pieceset (kv σ t : ℕ) : Finset S2x2x8x1728x128.Idx := Finset.univ.filter fun i => (i 0).val = kv ∧ (i 1).val = σ ∧ (i 2).val = t
def chset (kv σ : ℕ) : Finset S2x2x108x128x128.Idx := Finset.univ.filter fun i => (i 0).val = kv ∧ (i 1).val = σ
def winset (w : ℕ) : Finset S8x108x2048x128.Idx := Finset.univ.filter fun i => (i 0).val = w / 16 ∧ (i 2).val / 128 = w % 16
def sclset (b : ℕ) : Finset S108x16x1280.Idx := Finset.univ.filter fun i => (i 0).val / 12 = b
def stgset (σ : ℕ) : Finset S2x12x16x1280.Idx := Finset.univ.filter fun i => (i 0).val = σ

theorem poolset_eq {p : ℕ} (h) : (Rect.unit (s := S1280x1728x128) ![p, 0, 0] S1x1728x128.size h).set = poolset p := by
  ext i
  rw [Rect.mem_set_unit, poolset, Finset.mem_filter]
  have h1 : (i 1).val < 1728 := (i 1).isLt
  have h2 : (i 2).val < 128 := (i 2).isLt
  constructor
  · intro hh
    have := hh 0
    simp [S1x1728x128] at this
    exact ⟨Finset.mem_univ _, by omega⟩
  · rintro ⟨-, hh⟩ a
    match a with
    | ⟨0, _⟩ => simp [S1x1728x128] at *; omega
    | ⟨1, _⟩ => exact ⟨Nat.zero_le _, by show (i 1).val < 0 + 1728; omega⟩
    | ⟨2, _⟩ => exact ⟨Nat.zero_le _, by show (i 2).val < 0 + 128; omega⟩

theorem pieceset_eq {kv σ t : ℕ} (h) : (Rect.unit (s := S2x2x8x1728x128) ![kv, σ, t, 0, 0] S1x1x1x1728x128.size h).set = pieceset kv σ t := by
  ext i
  rw [Rect.mem_set_unit, pieceset, Finset.mem_filter]
  have h1 : (i 3).val < 1728 := (i 3).isLt
  have h2 : (i 4).val < 128 := (i 4).isLt
  constructor
  · intro hh
    have h0 : kv ≤ (i 0).val ∧ (i 0).val < kv + 1 := hh 0
    have h1 : σ ≤ (i 1).val ∧ (i 1).val < σ + 1 := hh 1
    have h2 : t ≤ (i 2).val ∧ (i 2).val < t + 1 := hh 2
    exact ⟨Finset.mem_univ _, by omega, by omega, by omega⟩
  · rintro ⟨-, h0, h1', h2'⟩ a
    match a with
    | ⟨0, _⟩ => show kv ≤ (i 0).val ∧ (i 0).val < kv + 1; omega
    | ⟨1, _⟩ => show σ ≤ (i 1).val ∧ (i 1).val < σ + 1; omega
    | ⟨2, _⟩ => show t ≤ (i 2).val ∧ (i 2).val < t + 1; omega
    | ⟨3, _⟩ => exact ⟨Nat.zero_le _, by show (i 3).val < 0 + 1728; omega⟩
    | ⟨4, _⟩ => exact ⟨Nat.zero_le _, by show (i 4).val < 0 + 128; omega⟩

theorem chset_eq {kv σ : ℕ} (h) : (Rect.unit (s := S2x2x108x128x128) ![kv, σ, 0, 0, 0] S1x1x108x128x128.size h).set = chset kv σ := by
  ext i
  rw [Rect.mem_set_unit, chset, Finset.mem_filter]
  have h1 : (i 2).val < 108 := (i 2).isLt
  have h2 : (i 3).val < 128 := (i 3).isLt
  have h3 : (i 4).val < 128 := (i 4).isLt
  constructor
  · intro hh
    have h0 : kv ≤ (i 0).val ∧ (i 0).val < kv + 1 := hh 0
    have h1 : σ ≤ (i 1).val ∧ (i 1).val < σ + 1 := hh 1
    exact ⟨Finset.mem_univ _, by omega, by omega⟩
  · rintro ⟨-, h0, h1'⟩ a
    match a with
    | ⟨0, _⟩ => show kv ≤ (i 0).val ∧ (i 0).val < kv + 1; omega
    | ⟨1, _⟩ => show σ ≤ (i 1).val ∧ (i 1).val < σ + 1; omega
    | ⟨2, _⟩ => exact ⟨Nat.zero_le _, by show (i 2).val < 0 + 108; omega⟩
    | ⟨3, _⟩ => exact ⟨Nat.zero_le _, by show (i 3).val < 0 + 128; omega⟩
    | ⟨4, _⟩ => exact ⟨Nat.zero_le _, by show (i 4).val < 0 + 128; omega⟩

theorem winset_eq {w : ℕ} (h) : (Rect.unit (s := S8x108x2048x128) ![w / 16, 0, w % 16 * 128, 0] S1x108x128x128.size h).set = winset w := by
  ext i
  rw [Rect.mem_set_unit, winset, Finset.mem_filter]
  have h1 : (i 1).val < 108 := (i 1).isLt
  have h3 : (i 3).val < 128 := (i 3).isLt
  constructor
  · intro hh
    have h0 : w / 16 ≤ (i 0).val ∧ (i 0).val < w / 16 + 1 := hh 0
    have h1 : w % 16 * 128 ≤ (i 2).val ∧ (i 2).val < w % 16 * 128 + 128 := hh 2
    exact ⟨Finset.mem_univ _, by omega, by omega⟩
  · rintro ⟨-, h0, h1'⟩ a
    match a with
    | ⟨0, _⟩ => show w / 16 ≤ (i 0).val ∧ (i 0).val < w / 16 + 1; omega
    | ⟨1, _⟩ => exact ⟨Nat.zero_le _, by show (i 1).val < 0 + 108; omega⟩
    | ⟨2, _⟩ => show w % 16 * 128 ≤ (i 2).val ∧ (i 2).val < w % 16 * 128 + 128; omega
    | ⟨3, _⟩ => exact ⟨Nat.zero_le _, by show (i 3).val < 0 + 128; omega⟩

theorem sclset_eq {b : ℕ} (h) : (Rect.unit (s := S108x16x1280) ![12 * b, 0, 0] S12x16x1280.size h).set = sclset b := by
  ext i
  rw [Rect.mem_set_unit, sclset, Finset.mem_filter]
  have h1 : (i 1).val < 16 := (i 1).isLt
  have h3 : (i 2).val < 1280 := (i 2).isLt
  constructor
  · intro hh
    have h0 : 12 * b ≤ (i 0).val ∧ (i 0).val < 12 * b + 12 := hh 0
    exact ⟨Finset.mem_univ _, by omega⟩
  · rintro ⟨-, h0⟩ a
    match a with
    | ⟨0, _⟩ => show 12 * b ≤ (i 0).val ∧ (i 0).val < 12 * b + 12; omega
    | ⟨1, _⟩ => exact ⟨Nat.zero_le _, by show (i 1).val < 0 + 16; omega⟩
    | ⟨2, _⟩ => exact ⟨Nat.zero_le _, by show (i 2).val < 0 + 1280; omega⟩

theorem stgset_eq {σ : ℕ} (h) : (Rect.unit (s := S2x12x16x1280) ![σ, 0, 0, 0] S1x12x16x1280.size h).set = stgset σ := by
  ext i
  rw [Rect.mem_set_unit, stgset, Finset.mem_filter]
  have h1 : (i 1).val < 12 := (i 1).isLt
  have h2 : (i 2).val < 16 := (i 2).isLt
  have h3 : (i 3).val < 1280 := (i 3).isLt
  constructor
  · intro hh
    have h0 : σ ≤ (i 0).val ∧ (i 0).val < σ + 1 := hh 0
    exact ⟨Finset.mem_univ _, by omega⟩
  · rintro ⟨-, h0⟩ a
    match a with
    | ⟨0, _⟩ => show σ ≤ (i 0).val ∧ (i 0).val < σ + 1; omega
    | ⟨1, _⟩ => exact ⟨Nat.zero_le _, by show (i 1).val < 0 + 12; omega⟩
    | ⟨2, _⟩ => exact ⟨Nat.zero_le _, by show (i 2).val < 0 + 16; omega⟩
    | ⟨3, _⟩ => exact ⟨Nat.zero_le _, by show (i 3).val < 0 + 1280; omega⟩

/-! ## Semaphore cells -/

variable (M : Mems) (Δ : Data)

def Mems.semR (kv : Fin 2) (σ : ℕ) : DmaSem sig := M.rsem.ix (ix2 kv (Fin.ofNat 2 σ))
def Mems.semW (kv : Fin 2) (σ : ℕ) : DmaSem sig := M.wsem.ix (ix2 kv (Fin.ofNat 2 σ))
def Mems.semS (σ : ℕ) : DmaSem sig := M.ssem.ix (ix1 (Fin.ofNat 2 σ))

theorem sem2_eq (A : DmaSems sig S2x2) {o : Fin 2 → ℕ} {kv : Fin 2} {σ : ℕ} (e : o = ![kv.val, σ]) (hσ : σ < 2) (h) (hs) :
    ((A.slice (Rect.unit (s := S2x2) o S1x1.size h)).squeeze S_ hs).sem = A.ix (ix2 kv (Fin.ofNat 2 σ)) := by
  subst e
  show A.ix _ = A.ix _
  congr 1
  funext a
  apply Fin.ext
  rw [Rect.emb_apply]
  have h0 : ((Shape.reshapeEquiv (Shape.Squeezes.numel_eq hs) (fun i => i.elim0)) a).val = 0 := by
    have := ((Shape.reshapeEquiv (Shape.Squeezes.numel_eq hs) (fun i => i.elim0)) a).isLt
    match a with
    | ⟨0, _⟩ => exact Nat.lt_one_iff.1 this
    | ⟨1, _⟩ => exact Nat.lt_one_iff.1 this
  match a with
  | ⟨0, _⟩ => exact (congrArg (fun z => kv.val + 1 * z) h0).trans (by show kv.val + 1 * 0 = kv.val; omega)
  | ⟨1, _⟩ => exact (congrArg (fun z => σ + 1 * z) h0).trans (by show σ + 1 * 0 = σ % 2; omega)

theorem sem1_eq (A : DmaSems sig S2) {o : Fin 1 → ℕ} {σ : ℕ} (e : o = ![σ]) (hσ : σ < 2) (h) (hs) :
    ((A.slice (Rect.unit (s := S2) o S1.size h)).squeeze S_ hs).sem = A.ix (ix1 (Fin.ofNat 2 σ)) := by
  subst e
  show A.ix _ = A.ix _
  congr 1
  funext a
  apply Fin.ext
  rw [Rect.emb_apply]
  have h0 : ((Shape.reshapeEquiv (Shape.Squeezes.numel_eq hs) (fun i => i.elim0)) a).val = 0 := by
    have := ((Shape.reshapeEquiv (Shape.Squeezes.numel_eq hs) (fun i => i.elim0)) a).isLt
    match a with
    | ⟨0, _⟩ => exact Nat.lt_one_iff.1 this
  match a with
  | ⟨0, _⟩ => exact (congrArg (fun z => σ + 1 * z) h0).trans (by show σ + 1 * 0 = σ % 2; omega)

/-! ## Copies -/

variable {sp : Space} {s t : Shape} {e : EltTy} {c : Dev nD} {α : Type} {Q : α → sProp 𝕄}

theorem mpt_ss (m : Memref sig .tc sp s e) (r : Rect s) (h) (hs : r.shape.Squeezes t) {I : Finset s.Idx} (hI : r.set = I) (q : PosShare TreeShare) (X : s.Idx → V e) :
    mpt c ((m.slice r h).squeeze t hs) Finset.univ q (fun x => X (r.emb (Shape.reshapeEquiv hs.numel_eq x))) = mpt c m I q X := by
  subst hI
  rw [mpt_squeeze (m.slice r h) hs q (fun y => X (r.emb y)), mpt_slice]

/-- A copy into a squeezed slice, its source given by its points-to. -/
theorem wpp_copy {sp' : Space} {src : Memref sig .tc sp' t e} {m2 : Memref sig .tc sp s e} {r2 : Rect s} {hr2} {hs2 : r2.shape.Squeezes t}
    {I2 : Finset s.Idx} (hI2 : r2.set = I2) {sm sm' : DmaSem sig} (hsm : sm' = sm) {h1 h2 h3}
    {k : PUnit → Prog (TpuEff nD τ sig (Elt Bits) Λ₀ .tc) α} {q : PosShare TreeShare} {Xs : t.Idx → V e} {A : sProp 𝕄}
    (eA : mpt c src Finset.univ q Xs = A) {Y Z : s.Idx → V e} (hZ : ∀ x, Z (r2.emb (Shape.reshapeEquiv hs2.numel_eq x)) = Xs x) {n : ℕ}
    {D : Fin n → sProp 𝕄} {j : ℕ} (N : ℕ) (hN : ((m2.slice r2 hr2).squeeze t hs2).view.dmaCredit = N) (hj : j < n)
    (hD : iprop(mpt c m2 I2 fullShare Z ∗ A) ⊢ D ⟨j, hj⟩) :
    iprop(A ∗ mpt c m2 I2 fullShare Y ∗ Transfers.Batch EC (c : Thread nD τ) (.dma sm) () N D j 0)
      ⊢ iprop((Transfers.Batch EC (c : Thread nD τ) (.dma sm) () N D (j + 1) 0 -∗ wpp c (k ⟨⟩) Q)
          -∗ wpp c (Prog.lift (TpuEff.enqueueDma src (.here ((m2.slice r2 hr2).squeeze t hs2)) (.dma sm') h1 h2 h3) >>= k) Q) := by
  subst hsm eA
  have e1 := mpt_ss (c := c) m2 r2 hr2 hs2 hI2 fullShare Y
  have e2 := mpt_ss (c := c) m2 r2 hr2 hs2 hI2 fullShare Z
  have e3 : (fun x => Z (r2.emb (Shape.reshapeEquiv hs2.numel_eq x))) = Xs := funext hZ
  rw [e3] at e2
  rw [← e1]
  exact wpp_issue (src := src) (dst := (m2.slice r2 hr2).squeeze t hs2) (sm := .dma sm') N hN hj (by rw [e2]; exact hD)

/-! ## The amounts -/

def Mems.NR : ℕ := sig.dmaCredit .tc (Kind.tc.table .vmem) M.pages.view.buf S1728x128 .fp8e4m3
def Mems.NW : ℕ := sig.dmaCredit .tc (Kind.tc.table .hbm) (M.out 0).view.buf S108x128x128 .bf16
def Mems.NS : ℕ := sig.dmaCredit .tc (Kind.tc.table .vmem) M.stage.view.buf S12x16x1280 .f32

theorem NR_pos : 0 < M.NR := sig.dmaCredit_pos _ _ _ _ _ (by decide)
theorem NW_pos : 0 < M.NW := sig.dmaCredit_pos _ _ _ _ _ (by decide)
theorem NS_pos : 0 < M.NS := sig.dmaCredit_pos _ _ _ _ _ (by decide)
theorem out_credit (kv : Fin 2) (r : Rect S8x108x2048x128) (hr) (hs : r.shape.Squeezes S108x128x128) :
    (((M.out kv).slice r hr).squeeze S108x128x128 hs).view.dmaCredit = M.NW := by
  match kv with
  | 0 => rfl
  | 1 => exact M.credit.symm

/-! ## Index maps of the copies -/

theorem reshape_111ab {a b : ℕ} (h : (⟨2, ![a, b]⟩ : Shape).numel = (⟨5, ![1, 1, 1, a, b]⟩ : Shape).numel) (x : Fin a) (y : Fin b) :
    Shape.reshapeEquiv h (ix2 x y) = ix5 (⟨0, Nat.one_pos⟩ : Fin 1) (⟨0, Nat.one_pos⟩ : Fin 1) (⟨0, Nat.one_pos⟩ : Fin 1) x y :=
  Shape.reshapeEquiv_eq_of_rowMajor h (by
    rw [Shape.rowMajor_val_five, Shape.rowMajor_val_two]
    show ((((0 * 1 + 0) * 1 + 0) * a + x.val) * b + y.val) = x.val * b + y.val
    simp only [Nat.zero_mul, Nat.zero_add])

theorem ix2_ex {a b : ℕ} (i : (⟨2, ![a, b]⟩ : Shape).Idx) : ∃ (x : Fin a) (y : Fin b), i = ix2 x y :=
  ⟨i 0, i 1, by funext c; match c with | ⟨0, _⟩ => rfl | ⟨1, _⟩ => rfl⟩
theorem ix3_ex {a b d : ℕ} (i : (⟨3, ![a, b, d]⟩ : Shape).Idx) : ∃ (x : Fin a) (y : Fin b) (z : Fin d), i = ix3 x y z :=
  ⟨i 0, i 1, i 2, by funext c; match c with | ⟨0, _⟩ => rfl | ⟨1, _⟩ => rfl | ⟨2, _⟩ => rfl⟩
theorem ix5_ex {a b d e f : ℕ} (i : (⟨5, ![a, b, d, e, f]⟩ : Shape).Idx) : ∃ (x : Fin a) (y : Fin b) (z : Fin d) (v : Fin e) (w : Fin f), i = ix5 x y z v w :=
  ⟨i 0, i 1, i 2, i 3, i 4, by funext c; match c with | ⟨0, _⟩ => rfl | ⟨1, _⟩ => rfl | ⟨2, _⟩ => rfl | ⟨3, _⟩ => rfl | ⟨4, _⟩ => rfl⟩

/-- What a page's read delivers: the slot and the page's share. -/
def RDel (kv : Fin 2) (σ : ℕ) (w : ℕ) (qq : ℕ → PosShare TreeShare) (c : Dev nD) (t : ℕ) : sProp 𝕄 :=
  iprop(mpt c M.pages (pieceset kv σ t) fullShare (Δ.PGB kv w) ∗ mpt c (M.pool kv) (poolset (Δ.pw w t)) (qq t) (Δ.P kv))

/-- Reading one page into its slot. -/
theorem wpp_read {kv : Fin 2} {σ tt w n : ℕ} (hσ : σ < 2) (qq : ℕ → PosShare TreeShare) {o1 : Fin 3 → ℕ} {o2 : Fin 5 → ℕ} {o3 : Fin 2 → ℕ}
    (e1 : o1 = ![Δ.pw w tt, 0, 0]) (e2 : o2 = ![kv.val, σ, tt, 0, 0]) (e3 : o3 = ![kv.val, σ]) {i1 hr1 hs1 i2 hr2 hs2 i3 hs3 h1 h2 h3}
    {k : PUnit → Prog (TpuEff nD τ sig (Elt Bits) Λ₀ .tc) α} {Y} (hj : tt < n) :
    iprop(mpt c (M.pool kv) Finset.univ (qq tt) (Δ.P kv) ∗ mpt c M.pages (pieceset kv σ tt) fullShare Y
        ∗ Transfers.Batch EC (c : Thread nD τ) (.dma (M.semR kv σ)) () M.NR (fun t : Fin n => RDel M Δ kv σ w qq c t.val) tt 0)
      ⊢ iprop((iprop(mpt c (M.pool kv) (Finset.univ \ poolset (Δ.pw w tt)) (qq tt) (Δ.P kv)
            ∗ Transfers.Batch EC (c : Thread nD τ) (.dma (M.semR kv σ)) () M.NR (fun t : Fin n => RDel M Δ kv σ w qq c t.val) (tt + 1) 0) -∗ wpp c (k ⟨⟩) Q)
          -∗ wpp c (Prog.lift (TpuEff.enqueueDma (((M.pool kv).slice (Rect.unit (s := S1280x1728x128) o1 S1x1728x128.size i1) hr1).squeeze S1728x128 hs1)
              (.here ((M.pages.slice (Rect.unit (s := S2x2x8x1728x128) o2 S1x1x1x1728x128.size i2) hr2).squeeze S1728x128 hs2))
              (.dma ((M.rsem.slice (Rect.unit (s := S2x2) o3 S1x1.size i3)).squeeze S_ hs3).sem) h1 h2 h3) >>= k) Q) := by
  subst e1 e2
  rw [mpt_sub (M.pool kv) (Finset.subset_univ (poolset (Δ.pw w tt)))]
  have e1 := mpt_ss (c := c) (M.pool kv) _ hr1 hs1 (poolset_eq i1) (qq tt) (Δ.P kv)
  have hw := wpp_copy (c := c) (Q := Q) (k := k) (hr2 := hr2) (hs2 := hs2) (h1 := h1) (h2 := h2) (h3 := h3) (pieceset_eq i2) (sem2_eq M.rsem e3 hσ i3 hs3) e1 (Y := Y) (Z := Δ.PGB kv w) (by
    intro x
    obtain ⟨x, y, rfl⟩ := ix2_ex (a := 1728) (b := 128) x
    refine (congrArg (fun z => Δ.PGB kv w (Rect.emb _ z)) (reshape_111ab _ x y)).trans (.trans ?_ (congrArg (fun z => Δ.P kv (Rect.emb _ z)) (reshapeEquiv_ix2_1ab _ x y)).symm)
    show Δ.PGB kv w _ = _
    unfold Data.PGB
    congr 1
    funext a
    apply Fin.ext
    match a with
    | ⟨0, _⟩ => show Δ.pw w (tt + 1 * 0) = Δ.pw w tt + 1 * 0; simp
    | ⟨1, _⟩ => rfl
    | ⟨2, _⟩ => rfl) M.NR rfl (D := fun t : Fin n => RDel M Δ kv σ w qq c t.val) (j := tt) hj .rfl
  iintro ⟨⟨Hp, Hc⟩, Hs, HB⟩ Hk
  iapply hw $$ [Hp Hs HB]
  · isplitl [Hp]; · iexact Hp
    isplitl [Hs]; · iexact Hs
    iexact HB
  iintro HB
  iapply Hk
  isplitl [Hc]; · iexact Hc
  iexact HB

/-- What a window's write delivers: the window and the chunk. -/
def WDel (kv : Fin 2) (σ : ℕ) (w : ℕ) (c : Dev nD) : sProp 𝕄 :=
  iprop(mpt c (M.out kv) (winset w) fullShare (Δ.TO kv) ∗ mpt c M.chunks (chset kv σ) fullShare (Δ.CHB kv w))

/-- Writing one chunk out to its window. -/
theorem wpp_write {kv : Fin 2} {σ w : ℕ} (hσ : σ < 2) {o1 : Fin 5 → ℕ} {o2 : Fin 4 → ℕ} {o3 : Fin 2 → ℕ}
    (e1 : o1 = ![kv.val, σ, 0, 0, 0]) (e2 : o2 = ![w / 16, 0, w % 16 * 128, 0]) (e3 : o3 = ![kv.val, σ]) {i1 hr1 hs1 i2 hr2 hs2 i3 hs3 h1 h2 h3}
    {k : PUnit → Prog (TpuEff nD τ sig (Elt Bits) Λ₀ .tc) α} {Y} :
    iprop(mpt c M.chunks (chset kv σ) fullShare (Δ.CHB kv w) ∗ mpt c (M.out kv) (winset w) fullShare Y
        ∗ Transfers.Batch EC (c : Thread nD τ) (.dma (M.semW kv σ)) () M.NW (fun _ : Fin 1 => WDel M Δ kv σ w c) 0 0)
      ⊢ iprop((Transfers.Batch EC (c : Thread nD τ) (.dma (M.semW kv σ)) () M.NW (fun _ : Fin 1 => WDel M Δ kv σ w c) 1 0 -∗ wpp c (k ⟨⟩) Q)
          -∗ wpp c (Prog.lift (TpuEff.enqueueDma ((M.chunks.slice (Rect.unit (s := S2x2x108x128x128) o1 S1x1x108x128x128.size i1) hr1).squeeze S108x128x128 hs1)
              (.here (((M.out kv).slice (Rect.unit (s := S8x108x2048x128) o2 S1x108x128x128.size i2) hr2).squeeze S108x128x128 hs2))
              (.dma ((M.wsem.slice (Rect.unit (s := S2x2) o3 S1x1.size i3)).squeeze S_ hs3).sem) h1 h2 h3) >>= k) Q) := by
  subst e1 e2
  have e1 := mpt_ss (c := c) M.chunks _ hr1 hs1 (chset_eq i1) fullShare (Δ.CHB kv w)
  exact wpp_copy (c := c) (Q := Q) (k := k) (hr2 := hr2) (hs2 := hs2) (h1 := h1) (h2 := h2) (h3 := h3) (winset_eq i2) (sem2_eq M.wsem e3 hσ i3 hs3) e1 (Y := Y) (Z := Δ.TO kv) (by
    intro x
    obtain ⟨x, y, z, rfl⟩ := ix3_ex (a := 108) (b := 128) (d := 128) x
    refine (congrArg (fun z => Δ.TO kv (Rect.emb _ z)) (reshapeEquiv_ix3_1abc _ x y z)).trans (.trans ?_ (congrArg (fun z => Δ.CHB kv w (Rect.emb _ z)) (reshapeEquiv_ix3_11abc _ x y z)).symm)
    show Δ.TO kv _ = Δ.CHB kv w _
    unfold Data.CHB Data.TO
    congr 1
    show w % 16 * 128 + 1 * y.val = w % 16 * 128 + (0 + 1 * y.val)
    omega) M.NW (out_credit M kv _ hr2 hs2) (D := fun _ : Fin 1 => WDel M Δ kv σ w c) (j := 0) Nat.one_pos .rfl

/-- Zeroing a window that no position is live in. -/
theorem wpp_zero {kv : Fin 2} {w n r : ℕ} {q : PosShare TreeShare} {o2 : Fin 4 → ℕ} (e2 : o2 = ![w / 16, 0, w % 16 * 128, 0]) (hw : ∀ i ∈ winset w, Δ.TO kv i = (0 : BitVec 16))
    {i2 hr2 hs2 h1 h2 h3} {k : PUnit → Prog (TpuEff nD τ sig (Elt Bits) Λ₀ .tc) α} {Y} {D : Fin n → sProp 𝕄} (hj : r < n)
    (hD : D ⟨r, hj⟩ = iprop(mpt c (M.out kv) (winset w) fullShare (Δ.TO kv) ∗ mpt c M.zeros Finset.univ q (fun _ => (0 : BitVec 16)))) :
    iprop(mpt c M.zeros Finset.univ q (fun _ => (0 : BitVec 16)) ∗ mpt c (M.out kv) (winset w) fullShare Y
        ∗ Transfers.Batch EC (c : Thread nD τ) (.dma M.zsem.sem) () M.NW D r 0)
      ⊢ iprop((Transfers.Batch EC (c : Thread nD τ) (.dma M.zsem.sem) () M.NW D (r + 1) 0 -∗ wpp c (k ⟨⟩) Q)
          -∗ wpp c (Prog.lift (TpuEff.enqueueDma M.zeros
              (.here (((M.out kv).slice (Rect.unit (s := S8x108x2048x128) o2 S1x108x128x128.size i2) hr2).squeeze S108x128x128 hs2))
              (.dma M.zsem.sem) h1 h2 h3) >>= k) Q) := by
  subst e2
  exact wpp_copy (c := c) (Q := Q) (k := k) (hr2 := hr2) (hs2 := hs2) (h1 := h1) (h2 := h2) (h3 := h3) (winset_eq i2) (rfl : M.zsem.sem = M.zsem.sem) rfl (Y := Y) (Z := fun _ => (0 : BitVec 16))
    (fun _ => rfl) M.NW (out_credit M kv _ hr2 hs2) (D := D) (j := r) hj (by
      rw [hD, mpt_congr (M.out kv) hw])

/-- What a stage copy delivers: the slot and the scales' part. -/
def SDel (kv : Fin 2) (σ : ℕ) (b : ℕ) (c : Dev nD) : sProp 𝕄 :=
  iprop(mpt c M.stage (stgset σ) fullShare (Δ.STG kv b) ∗ mpt c (M.scl kv) (sclset b) fullShare (Δ.SC kv))

/-- Reading a part of the scales into its slot. -/
theorem wpp_stage {kv : Fin 2} {σ b : ℕ} (hσ : σ < 2) (hb : b < 9) {o1 : Fin 3 → ℕ} {o2 : Fin 4 → ℕ} {o3 : Fin 1 → ℕ}
    (e1 : o1 = ![12 * b, 0, 0]) (e2 : o2 = ![σ, 0, 0, 0]) (e3 : o3 = ![σ]) {i1 hr1 i2 hr2 hs2 i3 hs3 h1 h2 h3}
    {k : PUnit → Prog (TpuEff nD τ sig (Elt Bits) Λ₀ .tc) α} {Y} :
    iprop(mpt c (M.scl kv) (sclset b) fullShare (Δ.SC kv) ∗ mpt c M.stage (stgset σ) fullShare Y
        ∗ Transfers.Batch EC (c : Thread nD τ) (.dma (M.semS σ)) () M.NS (fun _ : Fin 1 => SDel M Δ kv σ b c) 0 0)
      ⊢ iprop((Transfers.Batch EC (c : Thread nD τ) (.dma (M.semS σ)) () M.NS (fun _ : Fin 1 => SDel M Δ kv σ b c) 1 0 -∗ wpp c (k ⟨⟩) Q)
          -∗ wpp c (Prog.lift (TpuEff.enqueueDma ((M.scl kv).slice (Rect.unit (s := S108x16x1280) o1 S12x16x1280.size i1) hr1)
              (.here ((M.stage.slice (Rect.unit (s := S2x12x16x1280) o2 S1x12x16x1280.size i2) hr2).squeeze S12x16x1280 hs2))
              (.dma ((M.ssem.slice (Rect.unit (s := S2) o3 S1.size i3)).squeeze S_ hs3).sem) h1 h2 h3) >>= k) Q) := by
  subst e1 e2
  have e1 := mpt_slice (c := c) (M.scl kv) (Rect.unit (s := S108x16x1280) ![12 * b, 0, 0] S12x16x1280.size i1) hr1 fullShare (Δ.SC kv)
  rw [sclset_eq i1] at e1
  exact wpp_copy (c := c) (Q := Q) (k := k) (hr2 := hr2) (hs2 := hs2) (h1 := h1) (h2 := h2) (h3 := h3) (stgset_eq i2) (sem1_eq M.ssem e3 hσ i3 hs3) e1 (Y := Y) (Z := Δ.STG kv b) (by
    intro x
    obtain ⟨x, y, z, rfl⟩ := ix3_ex (a := 12) (b := 16) (d := 1280) x
    refine (congrArg (fun z => Δ.STG kv b (Rect.emb _ z)) (reshapeEquiv_ix3_1abc _ x y z)).trans ?_
    show Δ.STG kv b _ = _
    unfold Data.STG
    congr 1
    have hx := x.isLt
    funext a
    apply Fin.ext
    match a with
    | ⟨0, _⟩ => show (12 * b + (0 + 1 * x.val)) % 108 = 12 * b + 1 * x.val; omega
    | ⟨1, _⟩ => rfl
    | ⟨2, _⟩ => rfl) M.NS rfl (D := fun _ : Fin 1 => SDel M Δ kv σ b c) (j := 0) Nat.one_pos .rfl

end Cert.Proof.K
-- ==== Proof.Slots.lean ====
/- The slots of the pipelines: page reads, chunk writes, scale stages. -/
module

public import proofs.«01_k».proof.Proof.Spec
public import Idealize.SL.BI.BigOpNat
public import Idealize.ShloMosaic.Lib.ShareLeaves

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

local notation "V" => Elt Bits
local notation "𝕄" => MT nD τ sig Unit (Elt Bits) ℕ (Pipeline.UD sig nD τ) ℕ

variable (M : Mems) (Δ : Data) {c : Dev nD} {α : Type} {Q : α → sProp 𝕄}

/-! ## Runs of numbers -/

theorem bigSep_fin_range (n : ℕ) (D : ℕ → sProp 𝕄) : bigSep (Finset.univ : Finset (Fin n)) (fun t => D t.val) = bigSep (Finset.range n) D := by
  rw [← Nat.Iio_eq_range, ← Fin.map_valEmbedding_univ, bigSep_map]
  rfl

theorem Ico_bot {a b : ℕ} (h : a < b) (A : ℕ → sProp 𝕄) : bigSep (Finset.Ico a b) A = iprop(A a ∗ bigSep (Finset.Ico (a + 1) b) A) :=
  bigSep_Ico_succ_bot h A
theorem range_top (k : ℕ) (A : ℕ → sProp 𝕄) : bigSep (Finset.range (k + 1)) A = iprop(A k ∗ bigSep (Finset.range k) A) :=
  bigSep_range_succ k A
theorem bigSep_range_Ico {a b : ℕ} (h : a ≤ b) (D : ℕ → sProp 𝕄) :
    bigSep (Finset.range b) D = iprop(bigSep (Finset.range a) D ∗ bigSep (Finset.Ico a b) D) := by
  have hd : Disjoint (Finset.range a) (Finset.Ico a b) := Finset.disjoint_left.mpr fun x hx hy => by
    rw [Finset.mem_range] at hx; rw [Finset.mem_Ico] at hy; omega
  have hu : Finset.range b = Finset.range a ∪ Finset.Ico a b := by
    ext x; rw [Finset.mem_union, Finset.mem_range, Finset.mem_range, Finset.mem_Ico]; omega
  rw [hu, bigSep_union hd]
  rfl

/-- The waits a core has made, whatever they are. -/
abbrev OW (c : Dev nD) : sProp 𝕄 := iprop(∃ W : Waits sig Unit, owes (c : Thread nD τ) 0 W)

/-- A wait, at a semaphore known by another name. -/
theorem wpp_wait' {sp sp' : Space} {s s' : Shape} {e e' : EltTy} {sem sem' : DmaSem sig} (hsm : sem' = sem) {srcw : Memref sig .tc sp' s' e'} {dstw : Memref sig .tc sp s e} {h1 h2}
    {k : PUnit → Prog (TpuEff nD τ sig (Elt Bits) Λ₀ .tc) α} {n : ℕ} {D : Fin n → sProp 𝕄} {j u : ℕ} (N : ℕ)
    (hN : dstw.view.dmaCredit = N) (hu : u + N ≤ N * j) :
    iprop(Transfers.Batch EC (c : Thread nD τ) (.dma sem) () N D j u ∗ OW c)
      ⊢ iprop((iprop(Transfers.Batch EC (c : Thread nD τ) (.dma sem) () N D j (u + N) ∗ OW c) -∗ wpp c (k ⟨⟩) Q)
          -∗ wpp c (Prog.lift (TpuEff.waitDma2 sem' srcw dstw h1 h2) >>= k) Q) := by
  subst hsm
  iintro ⟨HB, ⟨%W, HW⟩⟩ Hk
  iapply wpp_wait N hN hu $$ [HB HW]
  · isplitl [HB]; · iexact HB
    iexact HW
  iintro ⟨HB, HW⟩
  iapply Hk
  isplitl [HB]; · iexact HB
  iexists _; iexact HW

/-- A step of the program that runs at a view shift. -/
theorem wpp_fupd (p : Prog (TpuEff nD τ sig (Elt Bits) Λ₀ .tc) α) : (|={Set.univ}=> wpp c p Q) ⊢ wpp c p Q := fupd_wp _ _ _ _ _

/-! ## Page slots -/

/-- Slot `t`'s share of a pool. -/
def qq (σ t : ℕ) : PosShare TreeShare := ShareLeaves.leaf 4 fullShare (Fin.ofNat 16 (σ * 8 + t))

def Slot (kv : Fin 2) (σ : ℕ) (c : Dev nD) (t : ℕ) : sProp 𝕄 :=
  iprop(mpt c (M.pool kv) Finset.univ (qq σ t) (Δ.P kv) ∗ ∃ Y, mpt c M.pages (pieceset kv σ t) fullShare Y)
def Rest (kv : Fin 2) (σ w : ℕ) (c : Dev nD) (t : ℕ) : sProp 𝕄 := mpt c (M.pool kv) (Finset.univ \ poolset (Δ.pw w t)) (qq σ t) (Δ.P kv)
def Full (kv : Fin 2) (σ w : ℕ) (c : Dev nD) (t : ℕ) : sProp 𝕄 :=
  iprop(mpt c (M.pool kv) Finset.univ (qq σ t) (Δ.P kv) ∗ mpt c M.pages (pieceset kv σ t) fullShare (Δ.PGB kv w))
/-- A slot with nothing in flight. -/
def RI (kv : Fin 2) (σ : ℕ) (c : Dev nD) : sProp 𝕄 :=
  iprop(bigSep (Finset.range 8) (Slot M Δ kv σ c) ∗ semVal ((c : Thread nD τ), .dma (M.semR kv σ)) 0)
/-- The batch of window `w`'s page reads. -/
abbrev RB (kv : Fin 2) (σ w : ℕ) (c : Dev nD) (j u : ℕ) : sProp 𝕄 :=
  Transfers.Batch EC (c : Thread nD τ) (.dma (M.semR kv σ)) () M.NR (fun t : Fin (Δ.np w) => RDel M Δ kv σ w (qq σ) c t.val) j u
/-- A slot with window `w`'s pages in flight. -/
def RD (kv : Fin 2) (σ w : ℕ) (c : Dev nD) : sProp 𝕄 :=
  iprop(bigSep (Finset.range (Δ.np w)) (Rest M Δ kv σ w c) ∗ bigSep (Finset.Ico (Δ.np w) 8) (Slot M Δ kv σ c) ∗ RB M Δ kv σ w c (Δ.np w) 0)
/-- A slot with window `w`'s pages landed. -/
def RR (kv : Fin 2) (σ w : ℕ) (c : Dev nD) : sProp 𝕄 :=
  iprop(bigSep (Finset.range (Δ.np w)) (Full M Δ kv σ w c) ∗ bigSep (Finset.Ico (Δ.np w) 8) (Slot M Δ kv σ c) ∗ semVal ((c : Thread nD τ), .dma (M.semR kv σ)) 0)

instance RDel_storable (kv : Fin 2) (σ w : ℕ) (q : ℕ → PosShare TreeShare) (c : Dev nD) (t : ℕ) : Storable (upEmb : UEmb _ 𝕄) (RDel M Δ kv σ w q c t) := by
  unfold RDel; infer_instance
instance WDel_storable (kv : Fin 2) (σ w : ℕ) (c : Dev nD) : Storable (upEmb : UEmb _ 𝕄) (WDel M Δ kv σ w c) := by
  unfold WDel; infer_instance
instance SDel_storable (kv : Fin 2) (σ w : ℕ) (c : Dev nD) : Storable (upEmb : UEmb _ 𝕄) (SDel M Δ kv σ w c) := by
  unfold SDel; infer_instance

theorem RR_RI (kv : Fin 2) (σ w : ℕ) : RR M Δ kv σ w c ⊢ RI M Δ kv σ c := by
  unfold RR RI
  rw [bigSep_range_Ico (Δ.np_le w)]
  iintro ⟨H1, H2, H3⟩
  isplitl [H1 H2]
  · isplitl [H1]
    · have h : bigSep (Finset.range (Δ.np w)) (Full M Δ kv σ w c) ⊢ bigSep (Finset.range (Δ.np w)) (Slot M Δ kv σ c) := bigSep_mono fun t _ => by
        show iprop(mpt c (M.pool kv) Finset.univ (qq σ t) (Δ.P kv) ∗ mpt c M.pages (pieceset kv σ t) fullShare (Δ.PGB kv w))
          ⊢ iprop(mpt c (M.pool kv) Finset.univ (qq σ t) (Δ.P kv) ∗ ∃ Y, mpt c M.pages (pieceset kv σ t) fullShare Y)
        iintro ⟨Ha, Hb⟩
        isplitl [Ha]; · iexact Ha
        iexists _; iexact Hb
      iapply h; iexact H1
    iexact H2
  iexact H3

/-- The reads of a window's pages, one trip each. -/
theorem wpp_issue_loop {kv : Fin 2} {σ w : ℕ} {A : sProp 𝕄} {l : Scf.Loop 32} {hok} {body : Fin l.trips → Unit → Prog (TpuEff nD τ sig (Elt Bits) Λ₀ .tc) Unit}
    {kk : Unit → Prog (TpuEff nD τ sig (Elt Bits) Λ₀ .tc) α} (hl : l.trips = Δ.np w)
    (hbody : ∀ (t : Fin l.trips) (ht : t.val < Δ.np w) (Q' : Unit → sProp 𝕄),
      iprop(A ∗ Slot M Δ kv σ c t.val ∗ RB M Δ kv σ w c t.val 0)
        ⊢ iprop((iprop(A ∗ Rest M Δ kv σ w c t.val ∗ RB M Δ kv σ w c (t.val + 1) 0) -∗ Q' ⟨⟩) -∗ wpp c (body t ⟨⟩) Q')) :
    iprop(A ∗ RI M Δ kv σ c) ⊢ iprop((iprop(A ∗ RD M Δ kv σ w c) -∗ wpp c (kk ⟨⟩) Q) -∗ wpp c (Scf.Loop.for l hok ⟨⟩ body >>= kk) Q) := by
  iintro ⟨HA, HRI⟩ Hk
  unfold RI
  icases HRI with ⟨Hs, Hv⟩
  iapply wpp_fupd
  imod (Transfers.batch_alloc' EC (c : Thread nD τ) (sm := .dma (M.semR kv σ)) () M.NR (fun t : Fin (Δ.np w) => RDel M Δ kv σ w (qq σ) c t.val) (E := Set.univ)) $$ Hv with HB
  imodintro
  iapply (wpp_for (c := c) (Q := Q) (kk := kk) (l := l) (hok := hok) (body := body) (init := ⟨⟩) (fun k _ => iprop(⌜k ≤ Δ.np w⌝ ∗ A ∗ bigSep (Finset.range k) (Rest M Δ kv σ w c) ∗ bigSep (Finset.Ico k 8) (Slot M Δ kv σ c) ∗ RB M Δ kv σ w c k 0)) (by
    intro k acc
    have hk : k.val < Δ.np w := hl ▸ k.isLt
    have hk8 := Δ.np_le w
    rw [Ico_bot (by omega : k.val < 8), range_top]
    iintro ⟨-, HA, Hr, ⟨Hs, Hs'⟩, HB⟩
    iapply (hbody k hk _) $$ [HA Hs HB]
    · isplitl [HA]; · iexact HA
      isplitl [Hs]; · iexact Hs
      iexact HB
    iintro ⟨HA, Hr', HB⟩
    isplitr; · ipureintro; omega
    isplitl [HA]; · iexact HA
    isplitl [Hr Hr']
    · isplitl [Hr']; · iexact Hr'
      iexact Hr
    isplitl [Hs']; · iexact Hs'
    iexact HB)) $$ [HA Hs HB]
  · isplitr; · ipureintro; omega
    isplitl [HA]; · iexact HA
    isplitr
    · rw [Finset.range_zero, bigSep_empty]; iempintro
    rw [← Finset.range_eq_Ico]
    isplitl [Hs]; · iexact Hs
    iexact HB
  iintro %acc ⟨-, HA, Hr, Hs, HB⟩
  rw [hl]
  iapply Hk
  unfold RD
  isplitl [HA]; · iexact HA
  isplitl [Hr]; · iexact Hr
  isplitl [Hs]; · iexact Hs
  iexact HB

/-- The waits for a window's pages, one trip each. -/
theorem wpp_wait_loop {kv : Fin 2} {σ w : ℕ} {l : Scf.Loop 32} {hok} {body : Fin l.trips → Unit → Prog (TpuEff nD τ sig (Elt Bits) Λ₀ .tc) Unit}
    {kk : Unit → Prog (TpuEff nD τ sig (Elt Bits) Λ₀ .tc) α} (hl : l.trips = Δ.np w)
    (hbody : ∀ (t : Fin l.trips) (ht : t.val < Δ.np w) (u : ℕ) (hu : u + M.NR ≤ M.NR * Δ.np w) (Q' : Unit → sProp 𝕄),
      iprop(RB M Δ kv σ w c (Δ.np w) u ∗ OW c)
        ⊢ iprop((iprop(RB M Δ kv σ w c (Δ.np w) (u + M.NR) ∗ OW c) -∗ Q' ⟨⟩) -∗ wpp c (body t ⟨⟩) Q')) :
    iprop(RD M Δ kv σ w c ∗ OW c) ⊢ iprop((iprop(RR M Δ kv σ w c ∗ OW c) -∗ wpp c (kk ⟨⟩) Q) -∗ wpp c (Scf.Loop.for l hok ⟨⟩ body >>= kk) Q) := by
  unfold RD
  iintro ⟨⟨Hr, Hs, HB⟩, HW⟩ Hk
  iapply (wpp_for (c := c) (Q := Q) (kk := kk) (l := l) (hok := hok) (body := body) (init := ⟨⟩) (fun k _ => iprop(RB M Δ kv σ w c (Δ.np w) (M.NR * k) ∗ OW c)) (by
    intro k acc
    have hk : k.val < Δ.np w := hl ▸ k.isLt
    iintro H
    iapply (hbody k hk (M.NR * k.val) (by rw [← Nat.mul_succ]; exact Nat.mul_le_mul_left _ hk) _) $$ H
    rw [Nat.mul_succ]
    iintro H
    iexact H)) $$ [HB HW]
  · rw [Nat.mul_zero]
    isplitl [HB]; · iexact HB
    iexact HW
  iintro %acc ⟨HB, HW⟩
  rw [hl]
  iapply wpp_fupd
  imod (Transfers.batch_collect' EC (c : Thread nD τ) (NR_pos M)) $$ HB with ⟨HD, Hv⟩
  imodintro
  iapply Hk
  isplitr [HW]
  · unfold RR
    isplitl [Hr HD]
    · have h : iprop(bigSep (Finset.range (Δ.np w)) (Rest M Δ kv σ w c) ∗ bigSep (Finset.univ : Finset (Fin (Δ.np w))) (fun t => RDel M Δ kv σ w (qq σ) c t.val))
          ⊢ bigSep (Finset.range (Δ.np w)) (Full M Δ kv σ w c) := by
        rw [bigSep_fin_range (Δ.np w) (RDel M Δ kv σ w (qq σ) c)]
        refine (Entails.of_eq (bigSep_sep _ _ _).symm).trans (bigSep_mono fun t _ => ?_)
        show iprop(mpt c (M.pool kv) (Finset.univ \ poolset (Δ.pw w t)) (qq σ t) (Δ.P kv)
            ∗ mpt c M.pages (pieceset kv σ t) fullShare (Δ.PGB kv w) ∗ mpt c (M.pool kv) (poolset (Δ.pw w t)) (qq σ t) (Δ.P kv))
          ⊢ iprop(mpt c (M.pool kv) Finset.univ (qq σ t) (Δ.P kv) ∗ mpt c M.pages (pieceset kv σ t) fullShare (Δ.PGB kv w))
        rw [mpt_sub (M.pool kv) (Finset.subset_univ (poolset (Δ.pw w t)))]
        iintro ⟨H1, H2, H3⟩
        isplitl [H1 H3]
        · isplitl [H3]; · iexact H3
          iexact H1
        iexact H2
      iapply h
      isplitl [Hr]; · iexact Hr
      iexact HD
    isplitl [Hs]; · iexact Hs
    iexact Hv
  iexact HW

/-! ## Chunk slots -/

abbrev WBt (kv : Fin 2) (σ w : ℕ) (c : Dev nD) (j u : ℕ) : sProp 𝕄 :=
  Transfers.Batch EC (c : Thread nD τ) (.dma (M.semW kv σ)) () M.NW (fun _ : Fin 1 => WDel M Δ kv σ w c) j u
/-- A chunk with nothing in flight. -/
def WI (kv : Fin 2) (σ : ℕ) (c : Dev nD) : sProp 𝕄 :=
  iprop((∃ X, mpt c M.chunks (chset kv σ) fullShare X) ∗ semVal ((c : Thread nD τ), .dma (M.semW kv σ)) 0)
/-- Window `w` at some contents. -/
def Win (kv : Fin 2) (c : Dev nD) (w : ℕ) : sProp 𝕄 := iprop(∃ Y, mpt c (M.out kv) (winset w) fullShare Y)
/-- Window `w` written. -/
def Wout (kv : Fin 2) (c : Dev nD) (w : ℕ) : sProp 𝕄 := mpt c (M.out kv) (winset w) fullShare (Δ.TO kv)

/-- The wait for a chunk's write. -/
theorem wpp_wait_write {kv : Fin 2} {σ w : ℕ} {sem' : DmaSem sig} (hsm : sem' = M.semW kv σ) {sp' : Space} {s' : Shape} {e' : EltTy}
    {srcw : Memref sig .tc sp' s' e'} {r2 : Rect S8x108x2048x128} {hr2} {hs2 : r2.shape.Squeezes S108x128x128} {h1 h2}
    {k : PUnit → Prog (TpuEff nD τ sig (Elt Bits) Λ₀ .tc) α} :
    iprop(WBt M Δ kv σ w c 1 0 ∗ OW c)
      ⊢ iprop((iprop(WI M kv σ c ∗ Wout M Δ kv c w ∗ OW c) -∗ wpp c (k ⟨⟩) Q)
          -∗ wpp c (Prog.lift (TpuEff.waitDma2 sem' srcw (((M.out kv).slice r2 hr2).squeeze S108x128x128 hs2) h1 h2) >>= k) Q) := by
  iintro H Hk
  iapply (wpp_wait' hsm M.NW (out_credit M kv r2 hr2 hs2) (by omega)) $$ H
  iintro ⟨HB, HW⟩
  iapply wpp_fupd
  rw [Nat.zero_add]
  have hc : WBt M Δ kv σ w c 1 M.NW ⊢ iprop(|={Set.univ}=> ((Wout M Δ kv c w ∗ mpt c M.chunks (chset kv σ) fullShare (Δ.CHB kv w)) ∗ semVal ((c : Thread nD τ), .dma (M.semW kv σ)) 0)) := by
    have hc := Transfers.batch_collect' EC (c : Thread nD τ) (sm := .dma (M.semW kv σ)) (ι := ()) (NW_pos M) (D := fun _ : Fin 1 => WDel M Δ kv σ w c)
    rw [Nat.mul_one, Finset.univ_unique, bigSep_singleton] at hc
    exact hc
  imod hc $$ HB with ⟨⟨H1, H2⟩, Hv⟩
  imodintro
  iapply Hk
  isplitl [H2 Hv]
  · unfold WI
    isplitl [H2]; · iexists _; iexact H2
    iexact Hv
  isplitl [H1]; · iexact H1
  iexact HW

/-- The write of a chunk. -/
theorem wpp_start_write {kv : Fin 2} {σ w : ℕ} (hσ : σ < 2) {o1 : Fin 5 → ℕ} {o2 : Fin 4 → ℕ} {o3 : Fin 2 → ℕ}
    (e1 : o1 = ![kv.val, σ, 0, 0, 0]) (e2 : o2 = ![w / 16, 0, w % 16 * 128, 0]) (e3 : o3 = ![kv.val, σ]) {i1 hr1 hs1 i2 hr2 hs2 i3 hs3 h1 h2 h3}
    {k : PUnit → Prog (TpuEff nD τ sig (Elt Bits) Λ₀ .tc) α} :
    iprop(mpt c M.chunks (chset kv σ) fullShare (Δ.CHB kv w) ∗ Win M kv c w ∗ semVal ((c : Thread nD τ), .dma (M.semW kv σ)) 0)
      ⊢ iprop((WBt M Δ kv σ w c 1 0 -∗ wpp c (k ⟨⟩) Q)
          -∗ wpp c (Prog.lift (TpuEff.enqueueDma ((M.chunks.slice (Rect.unit (s := S2x2x108x128x128) o1 S1x1x108x128x128.size i1) hr1).squeeze S108x128x128 hs1)
              (.here (((M.out kv).slice (Rect.unit (s := S8x108x2048x128) o2 S1x108x128x128.size i2) hr2).squeeze S108x128x128 hs2))
              (.dma ((M.wsem.slice (Rect.unit (s := S2x2) o3 S1x1.size i3)).squeeze S_ hs3).sem) h1 h2 h3) >>= k) Q) := by
  unfold Win
  iintro ⟨Hc, ⟨%Y, HO⟩, Hv⟩ Hk
  iapply wpp_fupd
  imod (Transfers.batch_alloc' EC (c : Thread nD τ) (sm := .dma (M.semW kv σ)) () M.NW (fun _ : Fin 1 => WDel M Δ kv σ w c) (E := Set.univ)) $$ Hv with HB
  imodintro
  iapply (wpp_write M Δ hσ e1 e2 e3) $$ [Hc HO HB]
  · isplitl [Hc]; · iexact Hc
    isplitl [HO]; · iexact HO
    iexact HB
  iexact Hk

/-! ## Scale stages -/

abbrev SB (kv : Fin 2) (σ b : ℕ) (c : Dev nD) (j u : ℕ) : sProp 𝕄 :=
  Transfers.Batch EC (c : Thread nD τ) (.dma (M.semS σ)) () M.NS (fun _ : Fin 1 => SDel M Δ kv σ b c) j u
/-- A stage slot with nothing in flight. -/
def SI (σ : ℕ) (c : Dev nD) : sProp 𝕄 :=
  iprop((∃ X, mpt c M.stage (stgset σ) fullShare X) ∗ semVal ((c : Thread nD τ), .dma (M.semS σ)) 0)
/-- Part `b` of the scales. -/
def Scl (kv : Fin 2) (c : Dev nD) (b : ℕ) : sProp 𝕄 := mpt c (M.scl kv) (sclset b) fullShare (Δ.SC kv)
/-- A stage slot with part `b` of the scales landed. -/
def SF (kv : Fin 2) (σ b : ℕ) (c : Dev nD) : sProp 𝕄 :=
  iprop(mpt c M.stage (stgset σ) fullShare (Δ.STG kv b) ∗ semVal ((c : Thread nD τ), .dma (M.semS σ)) 0)
theorem SF_SI (kv : Fin 2) (σ b : ℕ) : SF M Δ kv σ b c ⊢ SI M σ c := by
  unfold SF SI
  iintro ⟨H, Hv⟩
  isplitl [H]; · iexists _; iexact H
  iexact Hv

theorem wpp_start_stage {kv : Fin 2} {σ b : ℕ} (hσ : σ < 2) (hb : b < 9) {o1 : Fin 3 → ℕ} {o2 : Fin 4 → ℕ} {o3 : Fin 1 → ℕ}
    (e1 : o1 = ![12 * b, 0, 0]) (e2 : o2 = ![σ, 0, 0, 0]) (e3 : o3 = ![σ]) {i1 hr1 i2 hr2 hs2 i3 hs3 h1 h2 h3}
    {k : PUnit → Prog (TpuEff nD τ sig (Elt Bits) Λ₀ .tc) α} :
    iprop(Scl M Δ kv c b ∗ SI M σ c)
      ⊢ iprop((SB M Δ kv σ b c 1 0 -∗ wpp c (k ⟨⟩) Q)
          -∗ wpp c (Prog.lift (TpuEff.enqueueDma ((M.scl kv).slice (Rect.unit (s := S108x16x1280) o1 S12x16x1280.size i1) hr1)
              (.here ((M.stage.slice (Rect.unit (s := S2x12x16x1280) o2 S1x12x16x1280.size i2) hr2).squeeze S12x16x1280 hs2))
              (.dma ((M.ssem.slice (Rect.unit (s := S2) o3 S1.size i3)).squeeze S_ hs3).sem) h1 h2 h3) >>= k) Q) := by
  unfold SI Scl
  iintro ⟨Hc, ⟨%Y, HO⟩, Hv⟩ Hk
  iapply wpp_fupd
  imod (Transfers.batch_alloc' EC (c : Thread nD τ) (sm := .dma (M.semS σ)) () M.NS (fun _ : Fin 1 => SDel M Δ kv σ b c) (E := Set.univ)) $$ Hv with HB
  imodintro
  iapply (wpp_stage M Δ hσ hb e1 e2 e3) $$ [Hc HO HB]
  · isplitl [Hc]; · iexact Hc
    isplitl [HO]; · iexact HO
    iexact HB
  iexact Hk

theorem wpp_wait_stage {kv : Fin 2} {σ b : ℕ} (hσ : σ < 2) {sp' : Space} {s' : Shape} {e' : EltTy}
    {srcw : Memref sig .tc sp' s' e'} {o3 : Fin 1 → ℕ} (e3 : o3 = ![σ]) {i3 hs3} {r2 : Rect S2x12x16x1280} {hr2} {hs2 : r2.shape.Squeezes S12x16x1280} {h1 h2}
    {k : PUnit → Prog (TpuEff nD τ sig (Elt Bits) Λ₀ .tc) α} :
    iprop(SB M Δ kv σ b c 1 0 ∗ OW c)
      ⊢ iprop((iprop(SF M Δ kv σ b c ∗ Scl M Δ kv c b ∗ OW c) -∗ wpp c (k ⟨⟩) Q)
          -∗ wpp c (Prog.lift (TpuEff.waitDma2 ((M.ssem.slice (Rect.unit (s := S2) o3 S1.size i3)).squeeze S_ hs3).sem srcw ((M.stage.slice r2 hr2).squeeze S12x16x1280 hs2) h1 h2) >>= k) Q) := by
  iintro H Hk
  iapply (wpp_wait' (sem := M.semS σ) (n := 1) (D := fun _ => SDel M Δ kv σ b c) (j := 1) (u := 0) (sem1_eq M.ssem e3 hσ i3 hs3) M.NS rfl (by omega)) $$ H
  iintro ⟨HB, HW⟩
  iapply wpp_fupd
  rw [Nat.zero_add]
  have hc : SB M Δ kv σ b c 1 M.NS ⊢ iprop(|={Set.univ}=> ((mpt c M.stage (stgset σ) fullShare (Δ.STG kv b) ∗ Scl M Δ kv c b) ∗ semVal ((c : Thread nD τ), .dma (M.semS σ)) 0)) := by
    have hc := Transfers.batch_collect' EC (c : Thread nD τ) (sm := .dma (M.semS σ)) (ι := ()) (NS_pos M) (D := fun _ : Fin 1 => SDel M Δ kv σ b c)
    rw [Nat.mul_one, Finset.univ_unique, bigSep_singleton] at hc
    exact hc
  imod hc $$ HB with ⟨⟨H1, H2⟩, Hv⟩
  imodintro
  iapply Hk
  isplitl [H1 Hv]
  · unfold SF
    isplitl [H1]; · iexact H1
    iexact Hv
  isplitl [H2]; · iexact H2
  iexact HW

end Cert.Proof.K
-- ==== Proof.Checks.lean ====
/- The side conditions the kernel's region asks for. -/
module

public import proofs.«01_k».proof.Proof.Slots
public import Idealize.ShloMosaic.Lib.Affine
public import Idealize.ShloMosaic.Lib.LoopRemainder

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

local notation "V" => Elt Bits
local notation "𝕄" => MT nD τ sig Unit (Elt Bits) ℕ (Pipeline.UD sig nD τ) ℕ

/-! ## Counted loops -/

/-- The loop from `lo` up to `n`, as printed, and its remainder. -/
abbrev LP (lo n : BitVec 32) : Scf.Loop 32 := ⟨lo, Scalar.addi lo (Scalar.muli (Scalar.divsi (Scalar.subi n lo) 1#32) 1#32), 1#32⟩
abbrev LR (lo n : BitVec 32) : Scf.Loop 32 :=
  ⟨Scalar.addi lo (Scalar.muli (Scalar.divsi (Scalar.subi n lo) 1#32) 1#32), Scalar.addi lo (Scalar.subi n lo), 1#32⟩

section
variable {a b : ℕ} (ha : a < 2 ^ 20) (hb : b < 2 ^ 20)
include ha hb
theorem LP_trips : (LP (BitVec.ofNat 32 a) (BitVec.ofNat 32 b)).trips = b - a := by
  show Scf.trips (BitVec.ofNat 32 a) (Scalar.addi (BitVec.ofNat 32 a) (Scalar.muli (Scalar.divsi (Scalar.subi (BitVec.ofNat 32 b) (BitVec.ofNat 32 a)) 1#32) 1#32)) 1#32 = _
  rw [loop_eq]; exact trips_unit ha hb
theorem LP_ok : (LP (BitVec.ofNat 32 a) (BitVec.ofNat 32 b)).OK := by
  show Scf.OK (BitVec.ofNat 32 a) (Scalar.addi (BitVec.ofNat 32 a) (Scalar.muli (Scalar.divsi (Scalar.subi (BitVec.ofNat 32 b) (BitVec.ofNat 32 a)) 1#32) 1#32)) 1#32
  rw [loop_eq]; exact ok_unit ha hb
omit ha in
theorem LR_trips : (LR (BitVec.ofNat 32 a) (BitVec.ofNat 32 b)).trips = 0 := by
  show Scf.trips (Scalar.addi (BitVec.ofNat 32 a) (Scalar.muli (Scalar.divsi (Scalar.subi (BitVec.ofNat 32 b) (BitVec.ofNat 32 a)) 1#32) 1#32)) (Scalar.addi (BitVec.ofNat 32 a) (Scalar.subi (BitVec.ofNat 32 b) (BitVec.ofNat 32 a))) 1#32 = _
  rw [loop_eq, show Scalar.addi (BitVec.ofNat 32 a) (Scalar.subi (BitVec.ofNat 32 b) (BitVec.ofNat 32 a)) = BitVec.ofNat 32 b from by
    show BitVec.ofNat 32 a + (BitVec.ofNat 32 b - BitVec.ofNat 32 a) = _
    rw [BitVec.add_comm]; exact BitVec.sub_add_cancel _ _, trips_unit hb hb, Nat.sub_self]
omit ha in
theorem LR_ok : (LR (BitVec.ofNat 32 a) (BitVec.ofNat 32 b)).OK := by
  show Scf.OK (Scalar.addi (BitVec.ofNat 32 a) (Scalar.muli (Scalar.divsi (Scalar.subi (BitVec.ofNat 32 b) (BitVec.ofNat 32 a)) 1#32) 1#32)) (Scalar.addi (BitVec.ofNat 32 a) (Scalar.subi (BitVec.ofNat 32 b) (BitVec.ofNat 32 a))) 1#32
  rw [loop_eq, show Scalar.addi (BitVec.ofNat 32 a) (Scalar.subi (BitVec.ofNat 32 b) (BitVec.ofNat 32 a)) = BitVec.ofNat 32 b from by
    show BitVec.ofNat 32 a + (BitVec.ofNat 32 b - BitVec.ofNat 32 a) = _
    rw [BitVec.add_comm]; exact BitVec.sub_add_cancel _ _]
  exact ok_unit hb hb
end

section
variable {w : ℕ} (hw : w < 128) (len : BitVec 32)
include hw
theorem pg_trips : (LP 0#32 (wpg (BitVec.ofNat 32 w) len)).trips = npg w len := by
  rw [wpg_eq hw]; exact LP_trips (a := 0) (by omega) (by have := npg_le w len; omega)
theorem pg_ok : (LP 0#32 (wpg (BitVec.ofNat 32 w) len)).OK := by
  rw [wpg_eq hw]; exact LP_ok (a := 0) (by omega) (by have := npg_le w len; omega)
theorem pgr_trips : (LR 0#32 (wpg (BitVec.ofNat 32 w) len)).trips = 0 := by
  rw [wpg_eq hw]; exact LR_trips (a := 0) (by have := npg_le w len; omega)
theorem pgr_ok : (LR 0#32 (wpg (BitVec.ofNat 32 w) len)).OK := by
  rw [wpg_eq hw]; exact LR_ok (a := 0) (by have := npg_le w len; omega)
theorem bl_trips : (LP (wpg (BitVec.ofNat 32 w) len) 8#32).trips = 8 - npg w len := by
  rw [wpg_eq hw]; exact LP_trips (b := 8) (by have := npg_le w len; omega) (by omega)
theorem bl_ok : (LP (wpg (BitVec.ofNat 32 w) len) 8#32).OK := by
  rw [wpg_eq hw]; exact LP_ok (b := 8) (by have := npg_le w len; omega) (by omega)
theorem blr_trips : (LR (wpg (BitVec.ofNat 32 w) len) 8#32).trips = 0 := by
  rw [wpg_eq hw]; exact LR_trips (b := 8) (by omega)
theorem blr_ok : (LR (wpg (BitVec.ofNat 32 w) len) 8#32).OK := by
  rw [wpg_eq hw]; exact LR_ok (b := 8) (by omega)
omit hw
theorem wi_trips : (LP 0#32 (wwin len)).trips = nwin len := by
  rw [wwin_eq]; exact LP_trips (a := 0) (by omega) (by have := nwin_le len; omega)
theorem wi_ok : (LP 0#32 (wwin len)).OK := by
  rw [wwin_eq]; exact LP_ok (a := 0) (by omega) (by have := nwin_le len; omega)
theorem wir_trips : (LR 0#32 (wwin len)).trips = 0 := by
  rw [wwin_eq]; exact LR_trips (a := 0) (by have := nwin_le len; omega)
theorem wir_ok : (LR 0#32 (wwin len)).OK := by
  rw [wwin_eq]; exact LR_ok (a := 0) (by have := nwin_le len; omega)
theorem wz_trips : (LP (wwin len) 16#32).trips = 16 - nwin len := by
  rw [wwin_eq]; exact LP_trips (b := 16) (by have := nwin_le len; omega) (by omega)
theorem wz_ok : (LP (wwin len) 16#32).OK := by
  rw [wwin_eq]; exact LP_ok (b := 16) (by have := nwin_le len; omega) (by omega)
theorem wzr_trips : (LR (wwin len) 16#32).trips = 0 := by
  rw [wwin_eq]; exact LR_trips (b := 16) (by omega)
theorem wzr_ok : (LR (wwin len) 16#32).OK := by
  rw [wwin_eq]; exact LR_ok (b := 16) (by omega)
end

section
variable {n : ℕ} (hn : n ≤ 128)
include hn
theorem it_trips : (LP 0#32 (BitVec.ofNat 32 n)).trips = n := LP_trips (a := 0) (by omega) (by omega)
theorem it_ok : (LP 0#32 (BitVec.ofNat 32 n)).OK := LP_ok (a := 0) (by omega) (by omega)
theorem itr_trips : (LR 0#32 (BitVec.ofNat 32 n)).trips = 0 := LR_trips (a := 0) (by omega)
theorem itr_ok : (LR 0#32 (BitVec.ofNat 32 n)).OK := LR_ok (a := 0) (by omega)
theorem dead_eq : Scalar.muli 2#32 (Scalar.subi 128#32 (BitVec.ofNat 32 n)) = BitVec.ofNat 32 (2 * (128 - n)) := by
  have h : ∀ n : Fin 129, Scalar.muli 2#32 (Scalar.subi 128#32 (BitVec.ofNat 32 n.val)) = BitVec.ofNat 32 (2 * (128 - n.val)) := by decide +kernel
  exact h ⟨n, by omega⟩
theorem de_trips : (LP 0#32 (Scalar.muli 2#32 (Scalar.subi 128#32 (BitVec.ofNat 32 n)))).trips = 2 * (128 - n) := by
  rw [dead_eq hn]; exact LP_trips (a := 0) (by omega) (by omega)
theorem de_ok : (LP 0#32 (Scalar.muli 2#32 (Scalar.subi 128#32 (BitVec.ofNat 32 n)))).OK := by
  rw [dead_eq hn]; exact LP_ok (a := 0) (by omega) (by omega)
theorem der_trips : (LR 0#32 (Scalar.muli 2#32 (Scalar.subi 128#32 (BitVec.ofNat 32 n)))).trips = 0 := by
  rw [dead_eq hn]; exact LR_trips (a := 0) (by omega)
theorem der_ok : (LR 0#32 (Scalar.muli 2#32 (Scalar.subi 128#32 (BitVec.ofNat 32 n)))).OK := by
  rw [dead_eq hn]; exact LR_ok (a := 0) (by omega)
end

/-! ## Offsets -/

theorem mulN (a b : ℕ) : Scalar.muli (BitVec.ofNat 32 a) (BitVec.ofNat 32 b) = BitVec.ofNat 32 (a * b) := by
  show BitVec.ofNat 32 a * BitVec.ofNat 32 b = _
  rw [BitVec.ofNat_mul]
theorem addN (a b : ℕ) : Scalar.addi (BitVec.ofNat 32 a) (BitVec.ofNat 32 b) = BitVec.ofNat 32 (a + b) := by
  show BitVec.ofNat 32 a + BitVec.ofNat 32 b = _
  rw [BitVec.ofNat_add]
theorem iv_toNat {t : ℕ} (h : t < 2 ^ 20) : (Scf.iv 0#32 1#32 t).toNat = t := by
  rw [iv01]; exact toNat_ofNat32 (by omega)
theorem sg_toNat {t : ℕ} (h : t < 256) : (Scalar.remsi (Scf.iv 0#32 1#32 t) 2#32).toNat = t % 2 := by
  rw [iv01, rem2 h]; exact toNat_ofNat32 (by omega)

section
variable {w : ℕ} (hw : w < 128)
include hw
theorem o_b : ![(Scalar.indexCast (fdiv (BitVec.ofNat 32 w) 16#32)).toNat] = ![w / 16] := by
  rw [fdiv16_eq hw, idx_toNat (by omega)]
theorem o_pt {t : ℕ} (ht : t < 8) : ![(Scalar.indexCast (fdiv (BitVec.ofNat 32 w) 16#32)).toNat,
      (Scalar.indexCast (Scalar.addi (Scalar.muli (fmod16 (BitVec.ofNat 32 w)) 8#32) (Scf.iv 0#32 1#32 t))).toNat] = ![w / 16, w % 16 * 8 + t] := by
  rw [fdiv16_eq hw, fmod16_eq hw, iv01, mulN, addN, idx_toNat (by omega), idx_toNat (by omega)]
theorem o_win : ![(fdiv (BitVec.ofNat 32 w) 16#32).toNat, 0, (Scalar.muli (fmod16 (BitVec.ofNat 32 w)) 128#32).toNat, 0] = ![w / 16, 0, w % 16 * 128, 0] := by
  rw [fdiv16_eq hw, fmod16_eq hw, mulN, toNat_ofNat32 (by omega), toNat_ofNat32 (by omega)]
end
theorem o_1 {t : ℕ} (ht : t < 2 ^ 20) : ![(Scalar.indexCast (Scf.iv 0#32 1#32 t)).toNat] = ![t] := by
  rw [iv01, idx_toNat (by omega)]
theorem o_2 {t : ℕ} (ht : t < 2 ^ 20) : ![(Scalar.indexCast (Scalar.addi (Scf.iv 0#32 1#32 t) 2#32)).toNat] = ![t + 2] := by
  rw [iv01, addN, idx_toNat (by omega)]
theorem o_piece (kv σ : ℕ) {t : ℕ} (ht : t < 2 ^ 20) : ![kv, σ, (Scf.iv 0#32 1#32 t).toNat, 0, 0] = ![kv, σ, t, 0, 0] := by rw [iv_toNat ht]
theorem o_piece' (kv : ℕ) {i t : ℕ} (hi : i < 256) (ht : t < 2 ^ 20) :
    ![kv, (Scalar.remsi (Scf.iv 0#32 1#32 i) 2#32).toNat, (Scf.iv 0#32 1#32 t).toNat, 0, 0] = ![kv, i % 2, t, 0, 0] := by rw [iv_toNat ht, sg_toNat hi]
theorem o_sg (kv : ℕ) {i : ℕ} (hi : i < 256) : ![kv, (Scalar.remsi (Scf.iv 0#32 1#32 i) 2#32).toNat] = ![kv, i % 2] := by rw [sg_toNat hi]
theorem o_ch (kv : ℕ) {i : ℕ} (hi : i < 256) : ![kv, (Scalar.remsi (Scf.iv 0#32 1#32 i) 2#32).toNat, 0, 0, 0] = ![kv, i % 2, 0, 0, 0] := by rw [sg_toNat hi]
theorem o_codes (kv : ℕ) {i j : ℕ} (r : ℕ) (hi : i < 256) (hj : j < 8) :
    ![kv, (Scalar.remsi (Scf.iv 0#32 1#32 i) 2#32).toNat, (Scf.iv 0#32 1#32 j).toNat, r, 0] = ![kv, i % 2, j, r, 0] := by
  rw [iv_toNat (by omega), sg_toNat hi]
theorem o_tab (kv : ℕ) {p : ℕ} (hd : ℕ) (hp : p < 1280) : ![kv, (fdiv (BitVec.ofNat 32 p) 128#32).toNat, hd, 0, 0] = ![kv, p / 128, hd, 0, 0] := by
  rw [fdiv128_eq hp, toNat_ofNat32 (by omega)]
theorem o_dst (kv : ℕ) {i j : ℕ} (hd : ℕ) (hi : i < 256) (hj : j < 8) :
    ![kv, (Scalar.remsi (Scf.iv 0#32 1#32 i) 2#32).toNat, hd, (Scalar.muli (Scf.iv 0#32 1#32 j) 16#32).toNat, 0] = ![kv, i % 2, hd, j * 16, 0] := by
  rw [sg_toNat hi, iv01, mulN, toNat_ofNat32 (by omega)]
theorem o_blank (kv : ℕ) {i j w : ℕ} {len : BitVec 32} (hd : ℕ) (hw : w < 128) (hi : i < 256) (hj : j < 8) :
    ![kv, (Scalar.remsi (Scf.iv 0#32 1#32 i) 2#32).toNat, hd, (Scalar.muli (Scf.iv (wpg (BitVec.ofNat 32 w) len) 1#32 j) 16#32).toNat, 0]
      = ![kv, i % 2, hd, (npg w len + j) * 16, 0] := by
  have := npg_le w len
  rw [sg_toNat hi, wpg_eq hw, iv1, mulN, toNat_ofNat32 (by omega)]

/-! ## Offsets in range, words whole -/

section
variable {s z : ℕ}
theorem inbE {n : ℕ} {o o' sz sh : Fin n → ℕ} (e : o = o') (h : ∀ a, o' a + sz a ≤ sh a) : ∀ a, o a + sz a ≤ sh a := by subst e; exact h
end
theorem in_b {b : ℕ} (h : b < 8) : ∀ a, ![b] a + S1.size a ≤ S8.size a := fun | ⟨0, _⟩ => by show b + 1 ≤ 8; omega
theorem in_work {b : ℕ} (h : b < 128) : ∀ a, ![b] a + S1.size a ≤ S128.size a := fun | ⟨0, _⟩ => by show b + 1 ≤ 128; omega
theorem in_pt {b r : ℕ} (h : b < 8) (hr : r < 128) : ∀ a, ![b, r] a + S1x1.size a ≤ S8x128.size a :=
  fun | ⟨0, _⟩ => by show b + 1 ≤ 8; omega
      | ⟨1, _⟩ => by show r + 1 ≤ 128; omega
theorem in_sg {b r : ℕ} (h : b < 2) (hr : r < 2) : ∀ a, ![b, r] a + S1x1.size a ≤ S2x2.size a :=
  fun | ⟨0, _⟩ => by show b + 1 ≤ 2; omega
      | ⟨1, _⟩ => by show r + 1 ≤ 2; omega
theorem in_pool {p : ℕ} (h : p < 1280) : ∀ a, ![p, 0, 0] a + S1x1728x128.size a ≤ S1280x1728x128.size a :=
  fun | ⟨0, _⟩ => by show p + 1 ≤ 1280; omega
      | ⟨1, _⟩ => by show 0 + 1728 ≤ 1728; omega
      | ⟨2, _⟩ => by show 0 + 128 ≤ 128; omega
theorem in_piece {kv σ t : ℕ} (hk : kv < 2) (hσ : σ < 2) (ht : t < 8) : ∀ a, ![kv, σ, t, 0, 0] a + S1x1x1x1728x128.size a ≤ S2x2x8x1728x128.size a :=
  fun | ⟨0, _⟩ => by show kv + 1 ≤ 2; omega
      | ⟨1, _⟩ => by show σ + 1 ≤ 2; omega
      | ⟨2, _⟩ => by show t + 1 ≤ 8; omega
      | ⟨3, _⟩ => by show 0 + 1728 ≤ 1728; omega
      | ⟨4, _⟩ => by show 0 + 128 ≤ 128; omega
theorem in_codes {kv σ t r : ℕ} (hk : kv < 2) (hσ : σ < 2) (ht : t < 8) (hr : r + 32 ≤ 1728) : ∀ a, ![kv, σ, t, r, 0] a + S1x1x1x32x128.size a ≤ S2x2x8x1728x128.size a :=
  fun | ⟨0, _⟩ => by show kv + 1 ≤ 2; omega
      | ⟨1, _⟩ => by show σ + 1 ≤ 2; omega
      | ⟨2, _⟩ => by show t + 1 ≤ 8; omega
      | ⟨3, _⟩ => by show r + 32 ≤ 1728; omega
      | ⟨4, _⟩ => by show 0 + 128 ≤ 128; omega
theorem in_ch {kv σ : ℕ} (hk : kv < 2) (hσ : σ < 2) : ∀ a, ![kv, σ, 0, 0, 0] a + S1x1x108x128x128.size a ≤ S2x2x108x128x128.size a :=
  fun | ⟨0, _⟩ => by show kv + 1 ≤ 2; omega
      | ⟨1, _⟩ => by show σ + 1 ≤ 2; omega
      | ⟨2, _⟩ => by show 0 + 108 ≤ 108; omega
      | ⟨3, _⟩ => by show 0 + 128 ≤ 128; omega
      | ⟨4, _⟩ => by show 0 + 128 ≤ 128; omega
theorem in_dst {kv σ h r : ℕ} (hk : kv < 2) (hσ : σ < 2) (hh : h < 108) (hr : r + 16 ≤ 128) : ∀ a, ![kv, σ, h, r, 0] a + S1x1x1x16x128.size a ≤ S2x2x108x128x128.size a :=
  fun | ⟨0, _⟩ => by show kv + 1 ≤ 2; omega
      | ⟨1, _⟩ => by show σ + 1 ≤ 2; omega
      | ⟨2, _⟩ => by show h + 1 ≤ 108; omega
      | ⟨3, _⟩ => by show r + 16 ≤ 128; omega
      | ⟨4, _⟩ => by show 0 + 128 ≤ 128; omega
theorem in_tab {kv q h : ℕ} (hk : kv < 2) (hq : q < 10) (hh : h < 108) : ∀ a, ![kv, q, h, 0, 0] a + S1x1x1x8x128.size a ≤ S2x10x108x8x128.size a :=
  fun | ⟨0, _⟩ => by show kv + 1 ≤ 2; omega
      | ⟨1, _⟩ => by show q + 1 ≤ 10; omega
      | ⟨2, _⟩ => by show h + 1 ≤ 108; omega
      | ⟨3, _⟩ => by show 0 + 8 ≤ 8; omega
      | ⟨4, _⟩ => by show 0 + 128 ≤ 128; omega
theorem in_win {b r : ℕ} (hb : b < 8) (hr : r < 16) : ∀ a, ![b, 0, r * 128, 0] a + S1x108x128x128.size a ≤ S8x108x2048x128.size a :=
  fun | ⟨0, _⟩ => by show b + 1 ≤ 8; omega
      | ⟨1, _⟩ => by show 0 + 108 ≤ 108; omega
      | ⟨2, _⟩ => by show r * 128 + 128 ≤ 2048; omega
      | ⟨3, _⟩ => by show 0 + 128 ≤ 128; omega

theorem ww_piece {kv σ t : ℕ} {o : Fin 5 → ℕ} (e : o = ![kv, σ, t, 0, 0]) (hinb : ∀ a, o a + S1x1x1x1728x128.size a ≤ S2x2x8x1728x128.size a) :
    (Rect.unit (s := S2x2x8x1728x128) o S1x1x1x1728x128.size hinb).WholeWords (EltTy.packing .fp8e4m3) :=
  Affine.words_rows (by decide) (by rw [e]; rfl) rfl
theorem ww_pool {p : ℕ} {o : Fin 3 → ℕ} (e : o = ![p, 0, 0]) (hinb : ∀ a, o a + S1x1728x128.size a ≤ S1280x1728x128.size a) :
    (Rect.unit (s := S1280x1728x128) o S1x1728x128.size hinb).WholeWords (EltTy.packing .fp8e4m3) :=
  Affine.words_rows (by decide) (by rw [e]; rfl) rfl
theorem ww_ch {kv σ : ℕ} {o : Fin 5 → ℕ} (e : o = ![kv, σ, 0, 0, 0]) (hinb : ∀ a, o a + S1x1x108x128x128.size a ≤ S2x2x108x128x128.size a) :
    (Rect.unit (s := S2x2x108x128x128) o S1x1x108x128x128.size hinb).WholeWords (EltTy.packing .bf16) :=
  Affine.words_rows (by decide) (by rw [e]; rfl) rfl
theorem ww_win {b r : ℕ} {o : Fin 4 → ℕ} (e : o = ![b, 0, r * 128, 0]) (hinb : ∀ a, o a + S1x108x128x128.size a ≤ S8x108x2048x128.size a) :
    (Rect.unit (s := S8x108x2048x128) o S1x108x128x128.size hinb).WholeWords (EltTy.packing .bf16) :=
  Affine.words_of_packed (Affine.packed_dvd (by decide) (by rw [e]; exact (show (2 : ℕ) ∣ r * 128 by omega)) (by decide))
theorem pk_dst {kv σ h r : ℕ} {o : Fin 5 → ℕ} (e : o = ![kv, σ, h, r * 16, 0]) (hinb : ∀ a, o a + S1x1x1x16x128.size a ≤ S2x2x108x128x128.size a) :
    (Rect.unit (s := S2x2x108x128x128) o S1x1x1x16x128.size hinb).PackedRows (EltTy.packing .bf16) :=
  Affine.packed_dvd (by decide) (by rw [e]; exact (show (2 : ℕ) ∣ r * 16 by omega)) (by decide)
theorem dvd_mul {a b : ℕ} {x : BitVec 32} (hx : x = BitVec.ofNat 32 a) (h : a * b < 2 ^ 32) : b ∣ (Scalar.muli x (BitVec.ofNat 32 b)).toNat := by
  rw [hx, mulN, toNat_ofNat32 h]; exact Nat.dvd_mul_left b a

end Cert.Proof.K
-- ==== Proof.Tables.lean ====
/- Packing the scales into the tables. -/
module

public import proofs.«01_k».proof.Proof.Slots
public import proofs.«01_k».proof.Proof.Checks

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

local notation "V" => Elt Bits
local notation "𝕄" => MT nD τ sig Unit (Elt Bits) ℕ (Pipeline.UD sig nD τ) ℕ

variable (M : Mems) (Δ : Data) {c : Dev nD} {α β : Type} {Q : α → sProp 𝕄}

/-- A program in front of another. -/
theorem wpp_bind (p : Prog (TpuEff nD τ sig (Elt Bits) Λ₀ .tc) β) (k : β → Prog (TpuEff nD τ sig (Elt Bits) Λ₀ .tc) α) :
    wpp c p (fun x => wpp c (k x) Q) ⊢ wpp c (p >>= k) Q :=
  by unfold wpp; rw [wp_bind]

/-- The tables with the first blocks written. -/
def TI (N : ℕ) (c : Dev nD) : sProp 𝕄 :=
  iprop(∃ X, mpt c M.tables Finset.univ fullShare X ∗ ⌜∀ i : S2x10x108x8x128.Idx, ((i 0).val * 108 + (i 2).val) * 10 + (i 1).val < N → X i = Δ.TB i⌝)

theorem hd12 {b k : ℕ} (hb : b < 9) (hk : k < 12) : 12 * b + k < 108 := by omega

theorem hd128 {q : ℕ} (hq : q < 10) (d : Fin 128) : q * 128 + d.val < 1280 := by omega

def oS (σ q k : ℕ) : Fin 4 → ℕ := ![σ, (Scalar.indexCast (Scf.iv 0#32 1#32 k)).toNat, 0, 128 * q]
def oT (kv q b k : ℕ) : Fin 5 → ℕ := ![kv, q, (Scalar.indexCast (Scalar.addi (BitVec.ofNat 32 (12 * b)) (Scf.iv 0#32 1#32 k))).toNat, 0, 0]
theorem oS_eq (σ q : ℕ) {k : ℕ} (hk : k < 12) : oS σ q k = ![σ, k, 0, 128 * q] := congrArg (fun z => ![σ, z, 0, 128 * q]) (iv_toNat (by omega))
theorem oT_eq (kv q : ℕ) {b k : ℕ} (hb : b < 9) (hk : k < 12) : oT kv q b k = ![kv, q, 12 * b + k, 0, 0] :=
  congrArg (fun z => ![kv, q, z, 0, 0]) ((congrArg BitVec.toNat ((congrArg (Scalar.addi _) (iv01 k)).trans (addN (12 * b) k))).trans (toNat_ofNat32 (by omega)))
theorem oS_in {σ q k : ℕ} (hσ : σ < 2) (hq : q < 10) (hk : k < 12) : ∀ a, oS σ q k a + S1x1x16x128.size a ≤ S2x12x16x1280.size a := by
  rw [oS_eq σ q hk]
  intro a
  match a with
  | ⟨0, _⟩ => show σ + 1 ≤ 2; omega
  | ⟨1, _⟩ => show k + 1 ≤ 12; omega
  | ⟨2, _⟩ => show 0 + 16 ≤ 16; omega
  | ⟨3, _⟩ => show 128 * q + 128 ≤ 1280; omega
theorem oT_in {kv q b k : ℕ} (hkv : kv < 2) (hq : q < 10) (hb : b < 9) (hk : k < 12) : ∀ a, oT kv q b k a + S1x1x1x8x128.size a ≤ S2x10x108x8x128.size a := by
  rw [oT_eq kv q hb hk]
  exact in_tab hkv hq (by omega)

section
variable (kv : Fin 2) {σ b : ℕ} (hσ : σ < 2) (hb : b < 9) {k : ℕ} (hk : k < 12)

/-- Where a block is read. -/
theorem stg_at {q : ℕ} (hq : q < 10) (h) (r : Fin 16) (d : Fin 128) :
    Δ.STG kv b ((Rect.unit (s := S2x12x16x1280) (oS σ q k) S1x1x16x128.size h).toLoadRect.idx (ix4 (0 : Fin 1) (0 : Fin 1) r d))
      = Δ.SC kv (ix3 (⟨12 * b + k, hd12 hb hk⟩ : Fin 108) r (⟨q * 128 + d.val, hd128 hq d⟩ : Fin 1280)) := by
  have eS := oS_eq σ q hk
  unfold Data.STG
  congr 1
  funext a
  apply Fin.ext
  match a with
  | ⟨0, _⟩ =>
    have h1 : oS σ q k 1 = k := by rw [eS]; rfl
    show (12 * b + (oS σ q k 1 + 1 * 0)) % 108 = 12 * b + k
    rw [h1]; omega
  | ⟨1, _⟩ =>
    have h1 : oS σ q k 2 = 0 := by rw [eS]; rfl
    show oS σ q k 2 + 1 * r.val = r.val
    rw [h1]; omega
  | ⟨2, _⟩ =>
    have h1 : oS σ q k 3 = 128 * q := by rw [eS]; rfl
    show oS σ q k 3 + 1 * d.val = q * 128 + d.val
    rw [h1]; omega

/-- Where a block is written. -/
theorem tab_at {q : ℕ} (hq : q < 10) (h) (x0 x1 x2 : Fin 1) (x3 : Fin 8) (x4 : Fin 128) :
    (Rect.unit (s := S2x10x108x8x128) (oT kv.val q b k) S1x1x1x8x128.size h).emb (ix5 x0 x1 x2 x3 x4)
      = ix5 kv (⟨q, hq⟩ : Fin 10) (⟨12 * b + k, hd12 hb hk⟩ : Fin 108) x3 x4 := by
  have eT := oT_eq kv.val q hb hk
  funext a
  apply Fin.ext
  rw [Rect.emb_apply]
  match a with
  | ⟨0, _⟩ =>
    have h1 : oT kv.val q b k 0 = kv.val := by rw [eT]; rfl
    show oT kv.val q b k 0 + 1 * x0.val = kv.val
    rw [h1]; omega
  | ⟨1, _⟩ =>
    have h1 : oT kv.val q b k 1 = q := by rw [eT]; rfl
    show oT kv.val q b k 1 + 1 * x1.val = q
    rw [h1]; omega
  | ⟨2, _⟩ =>
    have h1 : oT kv.val q b k 2 = 12 * b + k := by rw [eT]; rfl
    show oT kv.val q b k 2 + 1 * x2.val = 12 * b + k
    rw [h1]; omega
  | ⟨3, _⟩ =>
    have h1 : oT kv.val q b k 3 = 0 := by rw [eT]; rfl
    show oT kv.val q b k 3 + 1 * x3.val = x3.val
    rw [h1]; omega
  | ⟨4, _⟩ =>
    have h1 : oT kv.val q b k 4 = 0 := by rw [eT]; rfl
    show oT kv.val q b k 4 + 1 * x4.val = x4.val
    rw [h1]; omega

/-- One block packed into the tables, and what follows. -/
def convBlk {q : ℕ} (hq : q < 10) (kk : PUnit → Prog (TpuEff nD τ sig (Elt Bits) Λ₀ .tc) α) : Prog (TpuEff nD τ sig (Elt Bits) Λ₀ .tc) α := do
  let v : Vec Bits S1x1x16x128 .f32 ← Prog.lift (.load M.stage (Rect.unit (s := S2x12x16x1280) (oS σ q k) S1x1x16x128.size (oS_in hσ hq hk)).toLoadRect (View.loadsAt_vmem h_S1x1x16x128))
  let u : Vec Bits S1x1x1x8x128 .i32 ← Prog.lift (.load M.tables (Rect.unit (s := S2x10x108x8x128) (oT kv.val q b k) S1x1x1x8x128.size (oT_in kv.isLt hq hb hk)).toLoadRect (View.loadsAt_vmem h_S1x1x1x8x128))
  let z ← Prog.lift (.store M.tables (Rect.unit (s := S2x10x108x8x128) (oT kv.val q b k) S1x1x1x8x128.size (oT_in kv.isLt hq hb hk)) (k0_pay1 v) Finset.univ (View.stores_vmem_bits_univ h_S1x1x1x8x128 rfl) (.inl rfl))
  kk z

/-- One head packed into the tables. -/
def convHead : Prog (TpuEff nD τ sig (Elt Bits) Λ₀ .tc) Unit :=
  convBlk M kv hσ hb hk (q := 0) (by omega) fun _ =>
  convBlk M kv hσ hb hk (q := 1) (by omega) fun _ =>
  convBlk M kv hσ hb hk (q := 2) (by omega) fun _ =>
  convBlk M kv hσ hb hk (q := 3) (by omega) fun _ =>
  convBlk M kv hσ hb hk (q := 4) (by omega) fun _ =>
  convBlk M kv hσ hb hk (q := 5) (by omega) fun _ =>
  convBlk M kv hσ hb hk (q := 6) (by omega) fun _ =>
  convBlk M kv hσ hb hk (q := 7) (by omega) fun _ =>
  convBlk M kv hσ hb hk (q := 8) (by omega) fun _ =>
  convBlk M kv hσ hb hk (q := 9) (by omega) fun _ => pure ⟨⟩

theorem wpp_convBlk {q : ℕ} (hq : q < 10) {N : ℕ} (hN : N = (kv.val * 108 + (12 * b + k)) * 10 + q) {kk : PUnit → Prog (TpuEff nD τ sig (Elt Bits) Λ₀ .tc) α} :
    iprop(SF M Δ kv σ b c ∗ TI M Δ N c)
      ⊢ iprop((iprop(SF M Δ kv σ b c ∗ TI M Δ (N + 1) c) -∗ wpp c (kk ⟨⟩) Q)
        -∗ wpp c (convBlk M kv hσ hb hk hq kk) Q) := by
  subst hN
  have eS := oS_eq σ q hk
  have eT := oT_eq kv.val q hb hk
  unfold SF TI
  iintro ⟨⟨HS, Hv⟩, ⟨%X, HT, %hX⟩⟩ Hk
  unfold convBlk
  iapply (wpp_load (β := Unit) (I := stgset σ) (X := Δ.STG kv b) (q := fullShare) (by
    intro i hi
    have h0 : oS σ q k 0 ≤ (i 0).val ∧ (i 0).val < oS σ q k 0 + 1 := Rect.mem_set_unit.1 hi 0
    rw [eS] at h0
    have h0 : σ ≤ (i 0).val ∧ (i 0).val < σ + 1 := h0
    exact Finset.mem_filter.2 ⟨Finset.mem_univ _, by omega⟩)) $$ HS
  iintro HS
  iapply (wpp_load (β := Unit) (I := Finset.univ) (X := X) (q := fullShare) (Finset.subset_univ _)) $$ HT
  iintro HT
  iapply (wpp_store (I := Finset.univ) (X := X) (Y := fun i => if (i 0).val = kv.val ∧ (i 1).val = q ∧ (i 2).val = 12 * b + k then Δ.TB i else X i) (Finset.subset_univ _) (by
    intro x
    obtain ⟨x0, x1, x2, x3, x4, rfl⟩ := ix5_ex (a := 1) (b := 1) (d := 1) (e := 8) (f := 128) x
    rw [pay1_apply, tab_at kv hb hk hq, stg_at Δ (σ := σ) kv hb hk hq, stg_at Δ (σ := σ) kv hb hk hq]
    exact if_pos ⟨rfl, rfl, rfl⟩) (by
    intro i _ hi
    rw [if_neg]
    intro h
    apply hi
    obtain ⟨x0, x1, x2, x3, x4, rfl⟩ := ix5_ex (a := 2) (b := 10) (d := 108) (e := 8) (f := 128) i
    rw [← Rect.map_emb_univ]
    refine Finset.mem_map.2 ⟨ix5 (0 : Fin 1) (0 : Fin 1) (0 : Fin 1) x3 x4, Finset.mem_univ _, (tab_at kv hb hk hq _ _ _ _ _ _).trans ?_⟩
    obtain ⟨h0, h1, h2⟩ := h
    have e0 : x0 = kv := Fin.ext h0
    have e1 : x1 = ⟨q, hq⟩ := Fin.ext h1
    have e2 : x2 = ⟨12 * b + k, hd12 hb hk⟩ := Fin.ext h2
    rw [e0, e1, e2])) $$ HT
  iintro HT
  iapply Hk
  isplitl [HS Hv]
  · isplitl [HS]; · iexact HS
    iexact Hv
  iexists _
  isplitl [HT]; · iexact HT
  ipureintro
  intro i hi
  by_cases h : (i 0).val = kv.val ∧ (i 1).val = q ∧ (i 2).val = 12 * b + k
  · exact if_pos h
  · refine (if_neg h).trans (hX i ?_)
    have h1 : (i 1).val < 10 := (i 1).isLt
    have h2 : (i 2).val < 108 := (i 2).isLt
    have := kv.isLt
    omega

theorem wpp_convHead {N : ℕ} (hN : N = (kv.val * 108 + (12 * b + k)) * 10) (Q' : Unit → sProp 𝕄) :
    iprop(SF M Δ kv σ b c ∗ TI M Δ N c)
      ⊢ iprop((iprop(SF M Δ kv σ b c ∗ TI M Δ (N + 10) c) -∗ Q' ⟨⟩) -∗ wpp c (convHead M kv hσ hb hk) Q') := by
  subst hN
  iintro H Hk
  unfold convHead
  iapply (wpp_convBlk M Δ kv hσ hb hk (q := 0) _ rfl) $$ H; iintro H
  iapply (wpp_convBlk M Δ kv hσ hb hk (q := 1) _ rfl) $$ H; iintro H
  iapply (wpp_convBlk M Δ kv hσ hb hk (q := 2) _ rfl) $$ H; iintro H
  iapply (wpp_convBlk M Δ kv hσ hb hk (q := 3) _ rfl) $$ H; iintro H
  iapply (wpp_convBlk M Δ kv hσ hb hk (q := 4) _ rfl) $$ H; iintro H
  iapply (wpp_convBlk M Δ kv hσ hb hk (q := 5) _ rfl) $$ H; iintro H
  iapply (wpp_convBlk M Δ kv hσ hb hk (q := 6) _ rfl) $$ H; iintro H
  iapply (wpp_convBlk M Δ kv hσ hb hk (q := 7) _ rfl) $$ H; iintro H
  iapply (wpp_convBlk M Δ kv hσ hb hk (q := 8) _ rfl) $$ H; iintro H
  iapply (wpp_convBlk M Δ kv hσ hb hk (q := 9) _ rfl) $$ H; iintro H
  iapply wpp_ret
  iapply Hk
  iexact H
end

/-- A packing loop: part `b` of the scales, from its stage slot into the tables. -/
theorem wpp_conv (kv : Fin 2) {σ b : ℕ} (hσ : σ < 2) (hb : b < 9) {l : Scf.Loop 32} {hok} {body : Fin l.trips → Unit → Prog (TpuEff nD τ sig (Elt Bits) Λ₀ .tc) Unit}
    (hl : l.trips = 12) (h : ∀ (t : Fin l.trips) (ht : t.val < 12), body t ⟨⟩ = convHead M kv hσ hb ht) {kk : Unit → Prog (TpuEff nD τ sig (Elt Bits) Λ₀ .tc) α} :
    iprop(SF M Δ kv σ b c ∗ TI M Δ ((kv.val * 9 + b) * 120) c)
      ⊢ iprop((iprop(SF M Δ kv σ b c ∗ TI M Δ ((kv.val * 9 + b + 1) * 120) c) -∗ wpp c (kk ⟨⟩) Q) -∗ wpp c (Scf.Loop.for l hok ⟨⟩ body >>= kk) Q) := by
  iintro H Hk
  iapply (wpp_for (c := c) (Q := Q) (kk := kk) (l := l) (hok := hok) (body := body) (init := ⟨⟩)
    (fun k _ => iprop(SF M Δ kv σ b c ∗ TI M Δ ((kv.val * 9 + b) * 120 + 10 * k) c)) (by
      intro t _
      have ht : t.val < 12 := by have := t.isLt; omega
      rw [h t ht]
      iintro H
      iapply (wpp_convHead M Δ kv hσ hb ht (N := (kv.val * 9 + b) * 120 + 10 * t.val) (by omega) (fun _ => iprop(SF M Δ kv σ b c ∗ TI M Δ ((kv.val * 9 + b) * 120 + 10 * (t.val + 1)) c))) $$ H
      iintro H
      iexact H)) $$ H
  iintro %_ H
  iapply Hk
  rw [hl, show (kv.val * 9 + b) * 120 + 10 * 12 = (kv.val * 9 + b + 1) * 120 by omega]
  iexact H

/-! ## The packing loops' bodies -/

theorem t13_eq (t : Fin k0_t13_loop.trips) (ht : t.val < 12) :
    k0_t13_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem t ⟨⟩ = convHead M 0 (σ := 0) (b := 0) (by omega) (by omega) ht := rfl

theorem t17_eq (t : Fin k0_t17_loop.trips) (ht : t.val < 12) :
    k0_t17_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem t ⟨⟩ = convHead M 0 (σ := 1) (b := 1) (by omega) (by omega) ht := rfl

theorem t18_eq (t : Fin k0_t18_loop.trips) (ht : t.val < 12) :
    k0_t18_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem t ⟨⟩ = convHead M 0 (σ := 0) (b := 2) (by omega) (by omega) ht := rfl

theorem t19_eq (x : BitVec 32) (t : Fin k0_t19_loop.trips) (ht : t.val < 12) :
    k0_t19_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem x t ⟨⟩ = convHead M 0 (σ := 1) (b := 3) (by omega) (by omega) ht := rfl

theorem t20_eq (x : BitVec 32) (t : Fin k0_t20_loop.trips) (ht : t.val < 12) :
    k0_t20_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem x t ⟨⟩ = convHead M 0 (σ := 0) (b := 4) (by omega) (by omega) ht := rfl

theorem t21_eq (t : Fin k0_t21_loop.trips) (ht : t.val < 12) :
    k0_t21_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem t ⟨⟩ = convHead M 0 (σ := 1) (b := 5) (by omega) (by omega) ht := rfl

theorem t22_eq (t : Fin k0_t22_loop.trips) (ht : t.val < 12) :
    k0_t22_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem t ⟨⟩ = convHead M 0 (σ := 0) (b := 6) (by omega) (by omega) ht := rfl

theorem t23_eq (t : Fin k0_t23_loop.trips) (ht : t.val < 12) :
    k0_t23_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem t ⟨⟩ = convHead M 0 (σ := 1) (b := 7) (by omega) (by omega) ht := rfl

theorem t24_eq (t : Fin k0_t24_loop.trips) (ht : t.val < 12) :
    k0_t24_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem t ⟨⟩ = convHead M 0 (σ := 0) (b := 8) (by omega) (by omega) ht := rfl

theorem t25_eq (t : Fin k0_t25_loop.trips) (ht : t.val < 12) :
    k0_t25_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem t ⟨⟩ = convHead M 1 (σ := 1) (b := 0) (by omega) (by omega) ht := rfl

theorem t26_eq (t : Fin k0_t26_loop.trips) (ht : t.val < 12) :
    k0_t26_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem t ⟨⟩ = convHead M 1 (σ := 0) (b := 1) (by omega) (by omega) ht := rfl

theorem t27_eq (t : Fin k0_t27_loop.trips) (ht : t.val < 12) :
    k0_t27_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem t ⟨⟩ = convHead M 1 (σ := 1) (b := 2) (by omega) (by omega) ht := rfl

theorem t28_eq (t : Fin k0_t28_loop.trips) (ht : t.val < 12) :
    k0_t28_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem t ⟨⟩ = convHead M 1 (σ := 0) (b := 3) (by omega) (by omega) ht := rfl

theorem t29_eq (t : Fin k0_t29_loop.trips) (ht : t.val < 12) :
    k0_t29_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem t ⟨⟩ = convHead M 1 (σ := 1) (b := 4) (by omega) (by omega) ht := rfl

theorem t30_eq (t : Fin k0_t30_loop.trips) (ht : t.val < 12) :
    k0_t30_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem t ⟨⟩ = convHead M 1 (σ := 0) (b := 5) (by omega) (by omega) ht := rfl

theorem t31_eq (t : Fin k0_t31_loop.trips) (ht : t.val < 12) :
    k0_t31_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem t ⟨⟩ = convHead M 1 (σ := 1) (b := 6) (by omega) (by omega) ht := rfl

theorem t32_eq (v1 : BitVec 32) (h19 : k0_chk19 v1) (t : Fin k0_t32_loop.trips) (ht : t.val < 12) :
    k0_t32_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem v1 h19 t ⟨⟩ = convHead M 1 (σ := 0) (b := 7) (by omega) (by omega) ht := rfl

theorem t33_eq (v1 : BitVec 32) (h19 : k0_chk19 v1) (t : Fin k0_t33_loop.trips) (ht : t.val < 12) :
    k0_t33_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem v1 h19 t ⟨⟩ = convHead M 1 (σ := 1) (b := 8) (by omega) (by omega) ht := rfl

end Cert.Proof.K
-- ==== Proof.Stages.lean ====
/- The parts of the scales: copied to a stage slot and packed into the tables. -/
module

public import proofs.«01_k».proof.Proof.Tables

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

local notation "V" => Elt Bits
local notation "𝕄" => MT nD τ sig Unit (Elt Bits) ℕ (Pipeline.UD sig nD τ) ℕ

variable (M : Mems) (Δ : Data) {c : Dev nD} {α : Type} {Q : α → sProp 𝕄}

/-- The pool of part `k` of the scales. -/
def kvOf (k : ℕ) : Fin 2 := Fin.ofNat 2 (k / 9)
/-- Part `k` of the scales. -/
def SclK (c : Dev nD) (k : ℕ) : sProp 𝕄 := Scl M Δ (kvOf k) c (k % 9)
/-- The stage slot of part `k`: in flight, if there is such a part. -/
def Fl (k : ℕ) (c : Dev nD) : sProp 𝕄 := if k < 18 then SB M Δ (kvOf k) (k % 2) (k % 9) c 1 0 else SI M (k % 2) c
/-- The parts of the scales at hand: those before `a`, and those from `b`. -/
def At (a b : ℕ) (c : Dev nD) : sProp 𝕄 := iprop(bigSep (Finset.range a) (SclK M Δ c) ∗ bigSep (Finset.Ico b 18) (SclK M Δ c))

/-- Before the wait for part `k`. -/
def StA (k : ℕ) (c : Dev nD) : sProp 𝕄 := iprop(Fl M Δ k c ∗ Fl M Δ (k + 1) c ∗ TI M Δ (k * 120) c ∗ At M Δ k (k + 2) c)
/-- After the wait for part `k`. -/
def StB (k : ℕ) (c : Dev nD) : sProp 𝕄 := iprop(SF M Δ (kvOf k) (k % 2) (k % 9) c ∗ Fl M Δ (k + 1) c ∗ TI M Δ (k * 120) c ∗ At M Δ (k + 1) (k + 2) c)
/-- After the packing of part `k`. -/
def StC (k : ℕ) (c : Dev nD) : sProp 𝕄 := iprop(SI M (k % 2) c ∗ Fl M Δ (k + 1) c ∗ TI M Δ ((k + 1) * 120) c ∗ At M Δ (k + 1) (k + 2) c)

theorem At_take {a b : ℕ} (hb : b < 18) : At M Δ a b c ⊢ iprop(SclK M Δ c b ∗ At M Δ a (b + 1) c) := by
  have e := Ico_bot hb (SclK M Δ c)
  unfold At
  rw [e]
  iintro ⟨H1, H2, H3⟩
  isplitl [H2]; · iexact H2
  isplitl [H1]; · iexact H1
  iexact H3

theorem At_put {a b : ℕ} : iprop(SclK M Δ c a ∗ At M Δ a b c) ⊢ At M Δ (a + 1) b c := by
  have e := range_top a (SclK M Δ c)
  unfold At
  iintro ⟨H1, H2, H3⟩
  isplitl [H1 H2]
  · iapply (Entails.of_eq e.symm)
    isplitl [H1]; · iexact H1
    iexact H2
  iexact H3

section
variable (k : ℕ) {kv : Fin 2} {σ b : ℕ} (hkv : kvOf k = kv) (hb : k % 9 = b) (hσ : k % 2 = σ)
include hkv hb hσ

/-- The wait for part `k`. -/
theorem st_wait (hk : k < 18) {sp' : Space} {s' : Shape} {e' : EltTy} {srcw : Memref sig .tc sp' s' e'} {o3 : Fin 1 → ℕ} (e3 : o3 = ![σ]) {i3 hs3} {r2 : Rect S2x12x16x1280} {hr2} {hs2 : r2.shape.Squeezes S12x16x1280} {h1 h2}
    {kk : PUnit → Prog (TpuEff nD τ sig (Elt Bits) Λ₀ .tc) α} :
    iprop(StA M Δ k c ∗ OW c)
      ⊢ iprop((iprop(StB M Δ k c ∗ OW c) -∗ wpp c (kk ⟨⟩) Q)
          -∗ wpp c (Prog.lift (TpuEff.waitDma2 ((M.ssem.slice (Rect.unit (s := S2) o3 S1.size i3)).squeeze S_ hs3).sem srcw ((M.stage.slice r2 hr2).squeeze S12x16x1280 hs2) h1 h2) >>= kk) Q) := by
  subst hkv hb hσ
  have e : Fl M Δ k c = SB M Δ (kvOf k) (k % 2) (k % 9) c 1 0 := if_pos hk
  unfold StA StB
  rw [e]
  iintro ⟨⟨HB, HF, HT, HA⟩, HO⟩ Hk
  iapply (wpp_wait_stage M Δ (Nat.mod_lt _ (by decide)) e3) $$ [HB HO]
  · isplitl [HB]; · iexact HB
    iexact HO
  iintro ⟨HS, HC, HO⟩
  iapply Hk
  isplitr [HO]
  · isplitl [HS]; · iexact HS
    isplitl [HF]; · iexact HF
    isplitl [HT]; · iexact HT
    iapply (At_put M Δ)
    isplitl [HC]; · unfold SclK; iexact HC
    iexact HA
  iexact HO

/-- The packing of part `k`. -/
theorem st_conv (hk : k < 18) {l : Scf.Loop 32} {hok} {body : Fin l.trips → Unit → Prog (TpuEff nD τ sig (Elt Bits) Λ₀ .tc) Unit}
    (hl : l.trips = 12) (hσ2 : σ < 2) (hb9 : b < 9) (h : ∀ (t : Fin l.trips) (ht : t.val < 12), body t ⟨⟩ = convHead M kv hσ2 hb9 ht) {kk : Unit → Prog (TpuEff nD τ sig (Elt Bits) Λ₀ .tc) α} :
    StB M Δ k c ⊢ iprop((StC M Δ k c -∗ wpp c (kk ⟨⟩) Q) -∗ wpp c (Scf.Loop.for l hok ⟨⟩ body >>= kk) Q) := by
  subst hkv hb hσ
  have e : (kvOf k).val * 9 + k % 9 = k := by
    show k / 9 % 2 * 9 + k % 9 = k
    omega
  have hc := wpp_conv (c := c) (Q := Q) M Δ (kvOf k) hσ2 hb9 (hok := hok) hl h (kk := kk)
  rw [e] at hc
  unfold StB StC
  iintro ⟨HS, HF, HT, HA⟩ Hk
  iapply hc $$ [HS HT]
  · isplitl [HS]; · iexact HS
    iexact HT
  iintro ⟨HS, HT⟩
  iapply Hk
  isplitl [HS]; · iapply (SF_SI M Δ (kvOf k) (k % 2) (k % 9)); iexact HS
  isplitl [HF]; · iexact HF
  isplitl [HT]; · iexact HT
  iexact HA
end

/-- Starting part `k + 2`. -/
theorem st_start (k : ℕ) {kv : Fin 2} {σ b : ℕ} (hkv : kvOf (k + 2) = kv) (hb : (k + 2) % 9 = b) (hσ : k % 2 = σ) (hk : k + 2 < 18) {o1 : Fin 3 → ℕ} {o2 : Fin 4 → ℕ} {o3 : Fin 1 → ℕ}
    (e1 : o1 = ![12 * b, 0, 0]) (e2 : o2 = ![σ, 0, 0, 0]) (e3 : o3 = ![σ]) {i1 hr1 i2 hr2 hs2 i3 hs3 h1 h2 h3}
    {kk : PUnit → Prog (TpuEff nD τ sig (Elt Bits) Λ₀ .tc) α} :
    StC M Δ k c
      ⊢ iprop((StA M Δ (k + 1) c -∗ wpp c (kk ⟨⟩) Q)
          -∗ wpp c (Prog.lift (TpuEff.enqueueDma ((M.scl kv).slice (Rect.unit (s := S108x16x1280) o1 S12x16x1280.size i1) hr1)
              (.here ((M.stage.slice (Rect.unit (s := S2x12x16x1280) o2 S1x12x16x1280.size i2) hr2).squeeze S12x16x1280 hs2))
              (.dma ((M.ssem.slice (Rect.unit (s := S2) o3 S1.size i3)).squeeze S_ hs3).sem) h1 h2 h3) >>= kk) Q) := by
  subst hkv hb hσ
  have e : Fl M Δ (k + 1 + 1) c = SB M Δ (kvOf (k + 2)) (k % 2) ((k + 2) % 9) c 1 0 := by
    unfold Fl
    rw [if_pos (show k + 1 + 1 < 18 from hk), show (k + 1 + 1) % 2 = k % 2 from by omega]
  unfold StC StA
  rw [e]
  iintro ⟨HS, HF, HT, HA⟩ Hk
  ihave HA := (At_take M Δ hk) $$ HA
  icases HA with ⟨HC, HA⟩
  unfold SclK
  iapply (wpp_start_stage M Δ (Nat.mod_lt _ (by decide)) (Nat.mod_lt _ (by decide)) e1 e2 e3) $$ [HC HS]
  · isplitl [HC]; · iexact HC
    iexact HS
  iintro HB
  iapply Hk
  isplitl [HF]; · iexact HF
  isplitl [HB]; · iexact HB
  isplitl [HT]; · iexact HT
  iexact HA

/-- With no part left to start. -/
theorem st_skip : StC M Δ 16 c ⊢ StA M Δ 17 c := by
  have e : Fl M Δ (17 + 1) c = SI M 0 c := rfl
  have e2 : (bigSep (Finset.Ico (16 + 2) 18) (SclK M Δ c) : sProp 𝕄) = bigSep (Finset.Ico (17 + 2) 18) (SclK M Δ c) := rfl
  unfold StC StA At
  rw [e, e2]
  iintro ⟨HS, HF, HT, HA⟩
  isplitl [HF]; · iexact HF
  isplitl [HS]; · iexact HS
  isplitl [HT]; · iexact HT
  iexact HA

end Cert.Proof.K
-- ==== Proof.Holds.lean ====
/- The kernel's side conditions hold. -/
module

public import proofs.«01_k».proof.Proof.Checks

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

local notation "V" => Elt Bits
local notation "𝕄" => MT nD τ sig Unit (Elt Bits) ℕ (Pipeline.UD sig nD τ) ℕ

theorem no_trip {α : Prop} {l : Scf.Loop 32} (h : l.trips = 0) (t : Fin l.trips) : α := absurd t.isLt (by omega)

section
variable {w : ℕ} (hw : w < 128) (len : BitVec 32)
include hw

theorem chk3_holds (v1 : BitVec 32) : k0_chk3 v1 (BitVec.ofNat 32 w) len :=
  ⟨fun _ => pg_ok hw len,
   fun t _ => inbE (o_pt hw (lt_of_lt_of_le (t.isLt.trans_eq (pg_trips hw len)) (npg_le w len))) (in_pt (by omega) (by have := t.isLt.trans_eq (pg_trips hw len); have := npg_le w len; omega)),
   fun t _ => inbE (o_piece 0 0 (by have := t.isLt.trans_eq (pg_trips hw len); have := npg_le w len; omega)) (in_piece (by omega) (by omega) (by have := t.isLt.trans_eq (pg_trips hw len); have := npg_le w len; omega)),
   fun t _ hinb => ww_piece (o_piece 0 0 (by have := t.isLt.trans_eq (pg_trips hw len); have := npg_le w len; omega)) hinb,
   fun _ => pgr_ok hw len, fun t => no_trip (pgr_trips hw len) t, fun t => no_trip (pgr_trips hw len) t, fun t => no_trip (pgr_trips hw len) t⟩

theorem chk7_holds (v1 : BitVec 32) : k0_chk7 v1 (BitVec.ofNat 32 w) len :=
  ⟨fun _ => pg_ok hw len,
   fun t _ => inbE (o_pt hw (lt_of_lt_of_le (t.isLt.trans_eq (pg_trips hw len)) (npg_le w len))) (in_pt (by omega) (by have := t.isLt.trans_eq (pg_trips hw len); have := npg_le w len; omega)),
   fun t _ => inbE (o_piece 1 0 (by have := t.isLt.trans_eq (pg_trips hw len); have := npg_le w len; omega)) (in_piece (by omega) (by omega) (by have := t.isLt.trans_eq (pg_trips hw len); have := npg_le w len; omega)),
   fun t _ hinb => ww_piece (o_piece 1 0 (by have := t.isLt.trans_eq (pg_trips hw len); have := npg_le w len; omega)) hinb,
   fun _ => pgr_ok hw len, fun t => no_trip (pgr_trips hw len) t, fun t => no_trip (pgr_trips hw len) t, fun t => no_trip (pgr_trips hw len) t⟩

theorem chk11_holds (v1 : BitVec 32) : k0_chk11 v1 (BitVec.ofNat 32 w) len :=
  ⟨fun _ => pg_ok hw len,
   fun t _ => inbE (o_pt hw (lt_of_lt_of_le (t.isLt.trans_eq (pg_trips hw len)) (npg_le w len))) (in_pt (by omega) (by have := t.isLt.trans_eq (pg_trips hw len); have := npg_le w len; omega)),
   fun t _ => inbE (o_piece 0 1 (by have := t.isLt.trans_eq (pg_trips hw len); have := npg_le w len; omega)) (in_piece (by omega) (by omega) (by have := t.isLt.trans_eq (pg_trips hw len); have := npg_le w len; omega)),
   fun t _ hinb => ww_piece (o_piece 0 1 (by have := t.isLt.trans_eq (pg_trips hw len); have := npg_le w len; omega)) hinb,
   fun _ => pgr_ok hw len, fun t => no_trip (pgr_trips hw len) t, fun t => no_trip (pgr_trips hw len) t, fun t => no_trip (pgr_trips hw len) t⟩

theorem chk15_holds (v1 : BitVec 32) : k0_chk15 v1 (BitVec.ofNat 32 w) len :=
  ⟨fun _ => pg_ok hw len,
   fun t _ => inbE (o_pt hw (lt_of_lt_of_le (t.isLt.trans_eq (pg_trips hw len)) (npg_le w len))) (in_pt (by omega) (by have := t.isLt.trans_eq (pg_trips hw len); have := npg_le w len; omega)),
   fun t _ => inbE (o_piece 1 1 (by have := t.isLt.trans_eq (pg_trips hw len); have := npg_le w len; omega)) (in_piece (by omega) (by omega) (by have := t.isLt.trans_eq (pg_trips hw len); have := npg_le w len; omega)),
   fun t _ hinb => ww_piece (o_piece 1 1 (by have := t.isLt.trans_eq (pg_trips hw len); have := npg_le w len; omega)) hinb,
   fun _ => pgr_ok hw len, fun t => no_trip (pgr_trips hw len) t, fun t => no_trip (pgr_trips hw len) t, fun t => no_trip (pgr_trips hw len) t⟩

omit len in
theorem chk2_holds (v1 : BitVec 32) : k0_chk2 v1 (BitVec.ofNat 32 w) := fun _ => inbE (o_b hw) (in_b (by omega))
omit len in
theorem chk6_holds (v1 : BitVec 32) : k0_chk6 v1 (BitVec.ofNat 32 w) := fun _ => inbE (o_b hw) (in_b (by omega))
omit len in
theorem chk10_holds (v1 : BitVec 32) : k0_chk10 v1 (BitVec.ofNat 32 w) := fun _ => inbE (o_b hw) (in_b (by omega))
omit len in
theorem chk14_holds (v1 : BitVec 32) : k0_chk14 v1 (BitVec.ofNat 32 w) := fun _ => inbE (o_b hw) (in_b (by omega))
theorem chk25_holds {n : ℕ} (hn : n ≤ 128) (i : Fin (k0_t34_loop (BitVec.ofNat 32 n)).trips) : k0_chk25 (BitVec.ofNat 32 n) i (BitVec.ofNat 32 w) len :=
  have hi : i.val < 128 := lt_of_lt_of_le (i.isLt.trans_eq (it_trips hn)) hn
  ⟨fun _ => pg_ok hw len,
   fun t _ => inbE (o_pt hw (by have := t.isLt.trans_eq (pg_trips hw len); have := npg_le w len; omega)) (in_pt (by omega) (by have := t.isLt.trans_eq (pg_trips hw len); have := npg_le w len; omega)),
   fun t _ => inbE (o_sg 0 (by omega)) (in_sg (by omega) (by omega)),
   fun t _ => inbE (o_piece' 0 (i := i.val) (by omega) (by have := t.isLt.trans_eq (pg_trips hw len); have := npg_le w len; omega)) (in_piece (by omega) (by omega) (by have := t.isLt.trans_eq (pg_trips hw len); have := npg_le w len; omega)),
   fun t _ hinb => ww_piece (o_piece' 0 (i := i.val) (by omega) (by have := t.isLt.trans_eq (pg_trips hw len); have := npg_le w len; omega)) hinb,
   fun _ => pgr_ok hw len, fun t => no_trip (pgr_trips hw len) t, fun t => no_trip (pgr_trips hw len) t, fun t => no_trip (pgr_trips hw len) t, fun t => no_trip (pgr_trips hw len) t⟩

theorem chk31_holds {n : ℕ} (hn : n ≤ 128) (i : Fin (k0_t34_loop (BitVec.ofNat 32 n)).trips) : k0_chk31 (BitVec.ofNat 32 n) i (BitVec.ofNat 32 w) len :=
  have hi : i.val < 128 := lt_of_lt_of_le (i.isLt.trans_eq (it_trips hn)) hn
  ⟨fun _ => pg_ok hw len,
   fun t _ => inbE (o_pt hw (by have := t.isLt.trans_eq (pg_trips hw len); have := npg_le w len; omega)) (in_pt (by omega) (by have := t.isLt.trans_eq (pg_trips hw len); have := npg_le w len; omega)),
   fun t _ => inbE (o_sg 1 (by omega)) (in_sg (by omega) (by omega)),
   fun t _ => inbE (o_piece' 1 (i := i.val) (by omega) (by have := t.isLt.trans_eq (pg_trips hw len); have := npg_le w len; omega)) (in_piece (by omega) (by omega) (by have := t.isLt.trans_eq (pg_trips hw len); have := npg_le w len; omega)),
   fun t _ hinb => ww_piece (o_piece' 1 (i := i.val) (by omega) (by have := t.isLt.trans_eq (pg_trips hw len); have := npg_le w len; omega)) hinb,
   fun _ => pgr_ok hw len, fun t => no_trip (pgr_trips hw len) t, fun t => no_trip (pgr_trips hw len) t, fun t => no_trip (pgr_trips hw len) t, fun t => no_trip (pgr_trips hw len) t⟩

omit len in
theorem chk20_holds : k0_chk20 (BitVec.ofNat 32 w) :=
  ⟨inbE (o_b hw) (in_b (by omega)), dvd_mul (fmod16_eq hw) (by omega), inbE (o_win hw) (in_win (by omega) (by omega)), fun hinb => ww_win (o_win hw) hinb,
   dvd_mul (fmod16_eq hw) (by omega)⟩

theorem lf_pg {α : ℕ → Prop} (h : ∀ t, t < 8 → α t) (t : Fin (LP 0#32 (wpg (BitVec.ofNat 32 w) len)).trips) : α t.val :=
  h t.val (lt_of_lt_of_le (t.isLt.trans_eq (pg_trips hw len)) (npg_le w len))
theorem lf_bl {α : ℕ → Prop} (h : ∀ t, npg w len + t < 8 → α t) (t : Fin (LP (wpg (BitVec.ofNat 32 w) len) 8#32).trips) : α t.val :=
  h t.val (by have := t.isLt.trans_eq (bl_trips hw len); have := npg_le w len; omega)
omit hw in
theorem lf_sg {i : ℕ} (hi : i < 256) (kv : ℕ) (hk : kv < 2) : ∀ a, ![kv, (Scalar.remsi (Scf.iv 0#32 1#32 i) 2#32).toNat] a + S1x1.size a ≤ S2x2.size a :=
  inbE (o_sg kv hi) (in_sg hk (by omega))
omit hw in
theorem lf_piece {i j : ℕ} (hi : i < 256) (hj : j < 8) (kv : ℕ) (hk : kv < 2) : ∀ a, ![kv, (Scalar.remsi (Scf.iv 0#32 1#32 i) 2#32).toNat, (Scf.iv 0#32 1#32 j).toNat, 0, 0] a + S1x1x1x1728x128.size a ≤ S2x2x8x1728x128.size a :=
  inbE (o_piece' kv hi (by omega)) (in_piece hk (by omega) hj)
omit hw in
theorem lf_codes {i j : ℕ} (hi : i < 256) (hj : j < 8) (kv r : ℕ) (hk : kv < 2) (hr : r + 32 ≤ 1728) : ∀ a, ![kv, (Scalar.remsi (Scf.iv 0#32 1#32 i) 2#32).toNat, (Scf.iv 0#32 1#32 j).toNat, r, 0] a + S1x1x1x32x128.size a ≤ S2x2x8x1728x128.size a :=
  inbE (o_codes kv r hi hj) (in_codes hk (by omega) hj hr)
omit hw in
theorem lf_dst {i j : ℕ} (hi : i < 256) (hj : j < 8) (kv hd : ℕ) (hk : kv < 2) (hh : hd < 108) :
    ∀ a, ![kv, (Scalar.remsi (Scf.iv 0#32 1#32 i) 2#32).toNat, hd, (Scalar.muli (Scf.iv 0#32 1#32 j) 16#32).toNat, 0] a + S1x1x1x16x128.size a ≤ S2x2x108x128x128.size a :=
  inbE (o_dst kv hd hi hj) (in_dst hk (by omega) hh (by omega))
theorem lf_blank {i j : ℕ} (hi : i < 256) (hj : npg w len + j < 8) (kv hd : ℕ) (hk : kv < 2) (hh : hd < 108) :
    ∀ a, ![kv, (Scalar.remsi (Scf.iv 0#32 1#32 i) 2#32).toNat, hd, (Scalar.muli (Scf.iv (wpg (BitVec.ofNat 32 w) len) 1#32 j) 16#32).toNat, 0] a + S1x1x1x16x128.size a ≤ S2x2x108x128x128.size a :=
  inbE (o_blank kv hd hw hi (by omega)) (in_dst hk (by omega) hh (by omega))

omit hw in
theorem dst_inb {n i : ℕ} {f : Fin n → ℕ} (hi : i < 256) (p : ∀ t, f t < 8) {o : Fin n → Fin 5 → ℕ}
    (e : ∃ kv hd, kv < 2 ∧ hd < 108 ∧ ∀ t, o t = ![kv, i % 2, hd, f t * 16, 0]) : ∀ t a, o t a + S1x1x1x16x128.size a ≤ S2x2x108x128x128.size a := by
  obtain ⟨kv, hd, hk, hh, e⟩ := e
  exact fun t => inbE (e t) (in_dst hk (by omega) hh (by have := p t; omega))
omit hw in
theorem dst_pk {n i : ℕ} {f : Fin n → ℕ} (p : ∀ t, f t < 8) {o : Fin n → Fin 5 → ℕ} (e : ∃ kv hd, ∀ t, o t = ![kv, i % 2, hd, f t * 16, 0]) :
    ∀ t (hinb : ∀ a, o t a + S1x1x1x16x128.size a ≤ S2x2x108x128x128.size a), (Rect.unit (s := S2x2x108x128x128) (o t) S1x1x1x16x128.size hinb).PackedRows (EltTy.packing .bf16) := by
  obtain ⟨kv, hd, e⟩ := e
  exact fun t hinb => pk_dst (e t) hinb
omit hw in
theorem codes_inb {n i : ℕ} {f : Fin n → ℕ} (hi : i < 256) (p : ∀ t, f t < 8) {o : Fin n → Fin 5 → ℕ}
    (e : ∃ kv r, kv < 2 ∧ r + 32 ≤ 1728 ∧ ∀ t, o t = ![kv, i % 2, f t, r, 0]) : ∀ t a, o t a + S1x1x1x32x128.size a ≤ S2x2x8x1728x128.size a := by
  obtain ⟨kv, r, hk, hr, e⟩ := e
  exact fun t => inbE (e t) (in_codes hk (by omega) (p t) hr)

omit hw in
theorem sg_inb {n i : ℕ} (hi : i < 256) {o : Fin n → Fin 2 → ℕ} (e : ∃ kv, kv < 2 ∧ ∀ t, o t = ![kv, i % 2]) : ∀ t a, o t a + S1x1.size a ≤ S2x2.size a := by
  obtain ⟨kv, hk, e⟩ := e
  exact fun t => inbE (e t) (in_sg hk (by omega))
omit hw in
theorem piece_inb {n i : ℕ} {f : Fin n → ℕ} (hi : i < 256) (p : ∀ t, f t < 8) {o : Fin n → Fin 5 → ℕ} (e : ∃ kv, kv < 2 ∧ ∀ t, o t = ![kv, i % 2, f t, 0, 0]) :
    ∀ t a, o t a + S1x1x1x1728x128.size a ≤ S2x2x8x1728x128.size a := by
  obtain ⟨kv, hk, e⟩ := e
  exact fun t => inbE (e t) (in_piece hk (by omega) (p t))
omit hw in
theorem piece_ww {n i : ℕ} {f : Fin n → ℕ} (p : ∀ t, f t < 8) {o : Fin n → Fin 5 → ℕ} (e : ∃ kv, ∀ t, o t = ![kv, i % 2, f t, 0, 0]) :
    ∀ t (hinb : ∀ a, o t a + S1x1x1x1728x128.size a ≤ S2x2x8x1728x128.size a), (Rect.unit (s := S2x2x8x1728x128) (o t) S1x1x1x1728x128.size hinb).WholeWords (EltTy.packing .fp8e4m3) := by
  obtain ⟨kv, e⟩ := e
  exact fun t hinb => ww_piece (e t) hinb
theorem pt_inb {n : ℕ} {f : Fin n → ℕ} (p : ∀ t, f t < 8) {o : Fin n → Fin 2 → ℕ} (e : ∀ t, o t = ![w / 16, w % 16 * 8 + f t]) :
    ∀ t a, o t a + S1x1.size a ≤ S8x128.size a :=
  fun t => inbE (e t) (in_pt (by omega) (by have := p t; omega))
theorem b_inb {n : ℕ} {o : Fin n → Fin 1 → ℕ} (e : ∀ t, o t = ![w / 16]) : ∀ t a, o t a + S1.size a ≤ S8.size a :=
  fun t => inbE (e t) (in_b (by omega))
omit hw in
theorem dvd_of {n : ℕ} {f : Fin n → ℕ} (p : ∀ t, f t < 8) {x : Fin n → BitVec 32} (e : ∀ t, x t = Scalar.muli (BitVec.ofNat 32 (f t)) (BitVec.ofNat 32 16)) : ∀ t, 16 ∣ (x t).toNat :=
  fun t => by rw [e t]; exact dvd_mul rfl (by have := p t; omega)

set_option maxHeartbeats 0 in
theorem chk21_holds {n : ℕ} (hn : n ≤ 128) (i : Fin (k0_t34_loop (BitVec.ofNat 32 n)).trips) : k0_chk21 (BitVec.ofNat 32 n) i (BitVec.ofNat 32 w) len := by
  have hi : i.val < 256 := by have := lt_of_lt_of_le (i.isLt.trans_eq (it_trips hn)) hn; omega
  have z36 : ∀ t : Fin (k0_t36_loop (BitVec.ofNat 32 w) len).trips, False := fun t => no_trip (pgr_trips hw len) t
  have z38 : ∀ t : Fin (k0_t38_loop (BitVec.ofNat 32 w) len).trips, False := fun t => no_trip (pgr_trips hw len) t
  have z40 : ∀ t : Fin (k0_t40_loop (BitVec.ofNat 32 w) len).trips, False := fun t => no_trip (blr_trips hw len) t
  have z44 : ∀ t : Fin (k0_t44_loop (BitVec.ofNat 32 w) len).trips, False := fun t => no_trip (pgr_trips hw len) t
  have z46 : ∀ t : Fin (k0_t46_loop (BitVec.ofNat 32 w) len).trips, False := fun t => no_trip (pgr_trips hw len) t
  have z48 : ∀ t : Fin (k0_t48_loop (BitVec.ofNat 32 w) len).trips, False := fun t => no_trip (blr_trips hw len) t
  have p35 : ∀ t : Fin (k0_t35_loop (BitVec.ofNat 32 w) len).trips, t.val < 8 := lf_pg hw len fun j hj => hj
  have p43 : ∀ t : Fin (k0_t43_loop (BitVec.ofNat 32 w) len).trips, t.val < 8 := lf_pg hw len fun j hj => hj
  have p37 : ∀ t : Fin (k0_t37_loop (BitVec.ofNat 32 w) len).trips, t.val < 8 := lf_pg hw len fun j hj => hj
  have p45 : ∀ t : Fin (k0_t45_loop (BitVec.ofNat 32 w) len).trips, t.val < 8 := lf_pg hw len fun j hj => hj
  have q39 : ∀ t : Fin (k0_t39_loop (BitVec.ofNat 32 w) len).trips, npg w len + t.val < 8 := lf_bl hw len fun j hj => hj
  have q47 : ∀ t : Fin (k0_t47_loop (BitVec.ofNat 32 w) len).trips, npg w len + t.val < 8 := lf_bl hw len fun j hj => hj
  have o35 : (k0_t35_loop (BitVec.ofNat 32 w) len).OK := pg_ok hw len
  have o36 : (k0_t36_loop (BitVec.ofNat 32 w) len).OK := pgr_ok hw len
  have o37 : (k0_t37_loop (BitVec.ofNat 32 w) len).OK := pg_ok hw len
  have o38 : (k0_t38_loop (BitVec.ofNat 32 w) len).OK := pgr_ok hw len
  have o39 : (k0_t39_loop (BitVec.ofNat 32 w) len).OK := bl_ok hw len
  have o40 : (k0_t40_loop (BitVec.ofNat 32 w) len).OK := blr_ok hw len
  have o43 : (k0_t43_loop (BitVec.ofNat 32 w) len).OK := pg_ok hw len
  have o44 : (k0_t44_loop (BitVec.ofNat 32 w) len).OK := pgr_ok hw len
  have o45 : (k0_t45_loop (BitVec.ofNat 32 w) len).OK := pg_ok hw len
  have o46 : (k0_t46_loop (BitVec.ofNat 32 w) len).OK := pgr_ok hw len
  have o47 : (k0_t47_loop (BitVec.ofNat 32 w) len).OK := bl_ok hw len
  have o48 : (k0_t48_loop (BitVec.ofNat 32 w) len).OK := blr_ok hw len
  repeat' first
    | with_reducible exact fun t => (z38 t).elim
    | with_reducible exact fun t => (z40 t).elim
    | with_reducible exact fun t => (z46 t).elim
    | with_reducible exact fun t => (z48 t).elim
    | (with_reducible refine dst_inb hi p37 ?_); exact ⟨_, _, by decide, by decide, fun t => o_dst _ _ hi (p37 t)⟩
    | (with_reducible refine dst_pk (i := i.val) p37 ?_); exact ⟨_, _, fun t => o_dst _ _ hi (p37 t)⟩
    | (with_reducible refine codes_inb hi p37 ?_); exact ⟨_, _, by decide, by decide, fun t => o_codes _ _ hi (p37 t)⟩
    | (with_reducible refine dst_inb hi p45 ?_); exact ⟨_, _, by decide, by decide, fun t => o_dst _ _ hi (p45 t)⟩
    | (with_reducible refine dst_pk (i := i.val) p45 ?_); exact ⟨_, _, fun t => o_dst _ _ hi (p45 t)⟩
    | (with_reducible refine codes_inb hi p45 ?_); exact ⟨_, _, by decide, by decide, fun t => o_codes _ _ hi (p45 t)⟩
    | (with_reducible refine dst_inb hi q39 ?_); exact ⟨_, _, by decide, by decide, fun t => o_blank _ _ hw hi (lt_of_le_of_lt (Nat.le_add_left _ _) (q39 t))⟩
    | (with_reducible refine dst_pk (i := i.val) q39 ?_); exact ⟨_, _, fun t => o_blank _ _ hw hi (lt_of_le_of_lt (Nat.le_add_left _ _) (q39 t))⟩
    | (with_reducible refine dst_inb hi q47 ?_); exact ⟨_, _, by decide, by decide, fun t => o_blank _ _ hw hi (lt_of_le_of_lt (Nat.le_add_left _ _) (q47 t))⟩
    | (with_reducible refine dst_pk (i := i.val) q47 ?_); exact ⟨_, _, fun t => o_blank _ _ hw hi (lt_of_le_of_lt (Nat.le_add_left _ _) (q47 t))⟩
    | with_reducible exact fun t => (z36 t).elim
    | with_reducible exact fun t => (z44 t).elim
    | with_reducible assumption
    | (with_reducible refine sg_inb hi ?_); exact ⟨_, by decide, fun t => o_sg _ hi⟩
    | (with_reducible refine piece_inb hi p35 ?_); exact ⟨_, by decide, fun t => o_piece' _ hi ((p35 t).trans (by decide))⟩
    | (with_reducible refine piece_ww (i := i.val) p35 ?_); exact ⟨_, fun t => o_piece' _ hi ((p35 t).trans (by decide))⟩
    | (with_reducible refine piece_inb hi p43 ?_); exact ⟨_, by decide, fun t => o_piece' _ hi ((p43 t).trans (by decide))⟩
    | (with_reducible refine piece_ww (i := i.val) p43 ?_); exact ⟨_, fun t => o_piece' _ hi ((p43 t).trans (by decide))⟩
    | (with_reducible refine pt_inb hw p37 ?_); exact fun t => o_pt hw (p37 t)
    | (with_reducible refine dvd_of p37 ?_); exact fun t => congrArg (Scalar.muli · 16#32) (iv01 t.val)
    | (with_reducible refine pt_inb hw p45 ?_); exact fun t => o_pt hw (p45 t)
    | (with_reducible refine dvd_of p45 ?_); exact fun t => congrArg (Scalar.muli · 16#32) (iv01 t.val)
    | (with_reducible refine b_inb hw ?_); exact fun t => o_b hw
    | (with_reducible refine dvd_of q39 ?_); exact fun t => congrArg (Scalar.muli · 16#32) ((congrArg (Scf.iv · 1#32 t.val) (wpg_eq hw len)).trans (iv1 _ _))
    | (with_reducible refine dvd_of q47 ?_); exact fun t => congrArg (Scalar.muli · 16#32) ((congrArg (Scf.iv · 1#32 t.val) (wpg_eq hw len)).trans (iv1 _ _))
    | apply And.intro

end

theorem lf_tab {p : ℕ} (hp : p < 1280) (kv hd : ℕ) (hk : kv < 2) (hh : hd < 108) : ∀ a, ![kv, (fdiv (BitVec.ofNat 32 p) 128#32).toNat, hd, 0, 0] a + S1x1x1x8x128.size a ≤ S2x10x108x8x128.size a :=
  inbE (o_tab kv hd hp) (in_tab hk (by omega) hh)
set_option maxHeartbeats 0 in
theorem chk22_holds {p : ℕ} (hp : p < 1280) : k0_chk22 (BitVec.ofNat 32 p) := by
  repeat' first
    | apply And.intro
    | exact lf_tab hp _ _ (by decide) (by decide)
set_option maxHeartbeats 0 in
theorem chk28_holds {p : ℕ} (hp : p < 1280) : k0_chk28 (BitVec.ofNat 32 p) := by
  repeat' first
    | apply And.intro
    | exact lf_tab hp _ _ (by decide) (by decide)
theorem chk4_holds (v1 : BitVec 32) {v : BitVec 32} (hp : v.toNat < 1280) : k0_chk4 v1 v := ⟨fun _ => inbE rfl (in_pool hp), fun _ hinb => ww_pool (p := v.toNat) rfl hinb⟩
theorem chk8_holds (v1 : BitVec 32) {v : BitVec 32} (hp : v.toNat < 1280) : k0_chk8 v1 v := ⟨fun _ => inbE rfl (in_pool hp), fun _ hinb => ww_pool (p := v.toNat) rfl hinb⟩
theorem chk12_holds (v1 : BitVec 32) {v : BitVec 32} (hp : v.toNat < 1280) : k0_chk12 v1 v := ⟨fun _ => inbE rfl (in_pool hp), fun _ hinb => ww_pool (p := v.toNat) rfl hinb⟩
theorem chk16_holds (v1 : BitVec 32) {v : BitVec 32} (hp : v.toNat < 1280) : k0_chk16 v1 v := ⟨fun _ => inbE rfl (in_pool hp), fun _ hinb => ww_pool (p := v.toNat) rfl hinb⟩
theorem chk26_holds (v1 : BitVec 32) (i : Fin (k0_t34_loop v1).trips) {v : BitVec 32} (hp : v.toNat < 1280) : k0_chk26 v1 i v := ⟨fun _ => inbE rfl (in_pool hp), fun _ hinb => ww_pool (p := v.toNat) rfl hinb⟩
theorem chk32_holds (v1 : BitVec 32) (i : Fin (k0_t34_loop v1).trips) {v : BitVec 32} (hp : v.toNat < 1280) : k0_chk32 v1 i v := ⟨fun _ => inbE rfl (in_pool hp), fun _ hinb => ww_pool (p := v.toNat) rfl hinb⟩

theorem chk1_holds (len : BitVec 32) {b : ℕ} (hb : b + nwin len ≤ 128) : k0_chk1 (BitVec.ofNat 32 b) len :=
  ⟨wi_ok len, fun t => inbE (o' := ![b + t.val]) (by
      have h : ![(Scalar.indexCast (Scalar.addi (BitVec.ofNat 32 b) (Scf.iv 0#32 1#32 t.val))).toNat] = ![b + t.val] := by
        have := t.isLt.trans_eq (wi_trips len)
        rw [iv01, addN, idx_toNat (by omega)]
      exact h) (in_work (by have := t.isLt.trans_eq (wi_trips len); omega)),
   wir_ok len, fun t => no_trip (wir_trips len) t⟩

theorem o_zero {b : ℕ} (hb : b < 8) (len : BitVec 32) {t : ℕ} (ht : t < 16 - nwin len) :
    ![(Scf.iv 0#32 1#32 b).toNat, 0, (Scalar.muli (Scf.iv (wwin len) 1#32 t) 128#32).toNat, 0] = ![b, 0, (nwin len + t) * 128, 0] := by
  rw [iv_toNat (by omega), wwin_eq, iv1, mulN, toNat_ofNat32 (by omega)]

theorem chk18_holds (b : Fin k0_t14_loop.trips) (len : BitVec 32) : k0_chk18 b len :=
  have hb : b.val < 8 := lt_of_lt_of_eq b.isLt (show _ = 8 by decide)
  ⟨wz_ok len, fun t => dvd_mul (a := nwin len + t.val) ((congrArg (fun x => Scf.iv x 1#32 t.val) (wwin_eq len)).trans (iv1 _ _)) (by have := t.isLt.trans_eq (wz_trips len); omega),
   fun t => inbE (o_zero hb len (t.isLt.trans_eq (wz_trips len))) (in_win hb (by have := t.isLt.trans_eq (wz_trips len); omega)),
   fun t hinb => ww_win (o_zero hb len (t.isLt.trans_eq (wz_trips len))) hinb,
   fun t => dvd_mul (a := nwin len + t.val) ((congrArg (fun x => Scf.iv x 1#32 t.val) (wwin_eq len)).trans (iv1 _ _)) (by have := t.isLt.trans_eq (wz_trips len); omega),
   wzr_ok len, fun t => no_trip (wzr_trips len) t, fun t => no_trip (wzr_trips len) t, fun t => no_trip (wzr_trips len) t, fun t => no_trip (wzr_trips len) t⟩

theorem cond1_iff : ∀ n : Fin 129, k0_cond1 (BitVec.ofNat 32 n.val) = 1#1 ↔ 0 < n.val := by decide +kernel
theorem cond2_iff : ∀ n : Fin 129, k0_cond2 (BitVec.ofNat 32 n.val) = 1#1 ↔ 1 < n.val := by decide +kernel
theorem cond11_iff : ∀ n : Fin 129, k0_cond11 (BitVec.ofNat 32 n.val) = 1#1 ↔ 2 ≤ n.val := by decide +kernel
theorem cond12_iff : ∀ n : Fin 129, k0_cond12 (BitVec.ofNat 32 n.val) = 1#1 ↔ 1 ≤ n.val := by decide +kernel
theorem ge2_iff : ∀ i : Fin 129, Scalar.cmpi .ne (Scalar.extui (Scalar.cmpi .sge (BitVec.ofNat 32 i.val) 2#32)) 0#32 = 1#1 ↔ 2 ≤ i.val := by decide +kernel
theorem lt2_iff : ∀ i n : Fin 129, Scalar.cmpi .ne (Scalar.extui (Scalar.cmpi .slt (Scalar.addi (BitVec.ofNat 32 i.val) 2#32) (BitVec.ofNat 32 n.val))) 0#32 = 1#1 ↔ i.val + 2 < n.val := by decide +kernel
theorem ge2_iv {i : ℕ} (hi : i < 129) : Scalar.cmpi .ne (Scalar.extui (Scalar.cmpi .sge (Scf.iv 0#32 1#32 i) 2#32)) 0#32 = 1#1 ↔ 2 ≤ i := by
  rw [iv01]; exact ge2_iff ⟨i, hi⟩
theorem lt2_iv {i n : ℕ} (hi : i < 129) (hn : n < 129) :
    Scalar.cmpi .ne (Scalar.extui (Scalar.cmpi .slt (Scalar.addi (Scf.iv 0#32 1#32 i) 2#32) (BitVec.ofNat 32 n))) 0#32 = 1#1 ↔ i + 2 < n := by
  rw [iv01]; exact lt2_iff ⟨i, hi⟩ ⟨n, hn⟩

section
variable {n : ℕ} (hn : n ≤ 128)
include hn
theorem it_lt (i : Fin (k0_t34_loop (BitVec.ofNat 32 n)).trips) : i.val < n := i.isLt.trans_eq (it_trips hn)
theorem cond3_iff (i : Fin (k0_t34_loop (BitVec.ofNat 32 n)).trips) : k0_cond3 (BitVec.ofNat 32 n) i = 1#1 ↔ 2 ≤ i.val :=
  ge2_iv (by have := it_lt hn i; omega)
theorem cond5_iff (i : Fin (k0_t34_loop (BitVec.ofNat 32 n)).trips) : k0_cond5 (BitVec.ofNat 32 n) i = 1#1 ↔ 2 ≤ i.val :=
  ge2_iv (by have := it_lt hn i; omega)
theorem cond4_iff (i : Fin (k0_t34_loop (BitVec.ofNat 32 n)).trips) : k0_cond4 (BitVec.ofNat 32 n) i = 1#1 ↔ i.val + 2 < n :=
  lt2_iv (by have := it_lt hn i; omega) (by omega)
theorem cond6_iff (i : Fin (k0_t34_loop (BitVec.ofNat 32 n)).trips) : k0_cond6 (BitVec.ofNat 32 n) i = 1#1 ↔ i.val + 2 < n :=
  lt2_iv (by have := it_lt hn i; omega) (by omega)

theorem sg_sub {k : ℕ} (hk : k ≤ 2) (h : k ≤ n) : (Scalar.remsi (Scalar.subi (BitVec.ofNat 32 n) (BitVec.ofNat 32 k)) 2#32).toNat = (n - k) % 2 := by
  have e : Scalar.subi (BitVec.ofNat 32 n) (BitVec.ofNat 32 k) = BitVec.ofNat 32 (n - k) := by
    show BitVec.ofNat 32 n - BitVec.ofNat 32 k = _
    rw [BitVec.ofNat_sub_ofNat_of_le _ _ (by omega) h]
  rw [e, rem2 (by omega)]; exact toNat_ofNat32 (by omega)
theorem o_sgs (kv : ℕ) {k : ℕ} (hk : k ≤ 2) (h : k ≤ n) : ![kv, (Scalar.remsi (Scalar.subi (BitVec.ofNat 32 n) (BitVec.ofNat 32 k)) 2#32).toNat] = ![kv, (n - k) % 2] := by
  rw [sg_sub hn hk h]
theorem o_chs (kv : ℕ) {k : ℕ} (hk : k ≤ 2) (h : k ≤ n) : ![kv, (Scalar.remsi (Scalar.subi (BitVec.ofNat 32 n) (BitVec.ofNat 32 k)) 2#32).toNat, 0, 0, 0] = ![kv, (n - k) % 2, 0, 0, 0] := by
  rw [sg_sub hn hk h]

theorem chk19_holds : k0_chk19 (BitVec.ofNat 32 n) :=
  have c11 := cond11_iff ⟨n, by omega⟩
  have c12 := cond12_iff ⟨n, by omega⟩
  ⟨⟨it_ok hn,
    fun i => inbE (o_1 (by have := it_lt hn i; omega)) (in_work (by have := it_lt hn i; omega)),
    fun _ _ => by decide,
    fun i _ => inbE (o_sg 0 (by have := it_lt hn i; omega)) (in_sg (by omega) (by omega)),
    fun i _ => inbE (o_ch 0 (by have := it_lt hn i; omega)) (in_ch (by omega) (by omega)),
    fun i _ hinb => ww_ch (o_ch 0 (by have := it_lt hn i; omega)) hinb,
    fun i h => inbE (o_2 (by have := it_lt hn i; omega)) (in_work (by have := (cond4_iff hn i).mp h; omega)),
    fun i => inbE (o_sg 0 (by have := it_lt hn i; omega)) (in_sg (by omega) (by omega)),
    fun i => inbE (o_ch 0 (by have := it_lt hn i; omega)) (in_ch (by omega) (by omega)),
    fun i hinb => ww_ch (o_ch 0 (by have := it_lt hn i; omega)) hinb,
    fun _ _ => by decide,
    fun i _ => inbE (o_sg 1 (by have := it_lt hn i; omega)) (in_sg (by omega) (by omega)),
    fun i _ => inbE (o_ch 1 (by have := it_lt hn i; omega)) (in_ch (by omega) (by omega)),
    fun i _ hinb => ww_ch (o_ch 1 (by have := it_lt hn i; omega)) hinb,
    fun i h => inbE (o_2 (by have := it_lt hn i; omega)) (in_work (by have := (cond6_iff hn i).mp h; omega)),
    fun i => inbE (o_sg 1 (by have := it_lt hn i; omega)) (in_sg (by omega) (by omega)),
    fun i => inbE (o_ch 1 (by have := it_lt hn i; omega)) (in_ch (by omega) (by omega)),
    fun i hinb => ww_ch (o_ch 1 (by have := it_lt hn i; omega)) hinb,
    itr_ok hn, fun t => no_trip (itr_trips hn) t, fun t => no_trip (itr_trips hn) t, fun t => no_trip (itr_trips hn) t, fun t => no_trip (itr_trips hn) t, fun t => no_trip (itr_trips hn) t, fun t => no_trip (itr_trips hn) t, fun t => no_trip (itr_trips hn) t, fun t => no_trip (itr_trips hn) t, fun t => no_trip (itr_trips hn) t, fun t => no_trip (itr_trips hn) t, fun t => no_trip (itr_trips hn) t, fun t => no_trip (itr_trips hn) t, fun t => no_trip (itr_trips hn) t⟩,
   fun t => no_trip (itr_trips hn) t, fun t => no_trip (itr_trips hn) t,
   fun h => inbE (o_sgs hn 0 (by omega) (c11.mp h)) (in_sg (by omega) (by omega)),
   fun h => inbE (o_chs hn 0 (by omega) (c11.mp h)) (in_ch (by omega) (by omega)),
   fun h hinb => ww_ch (o_chs hn 0 (by omega) (c11.mp h)) hinb,
   fun h => inbE (o_sgs hn 1 (by omega) (c11.mp h)) (in_sg (by omega) (by omega)),
   fun h => inbE (o_chs hn 1 (by omega) (c11.mp h)) (in_ch (by omega) (by omega)),
   fun h hinb => ww_ch (o_chs hn 1 (by omega) (c11.mp h)) hinb,
   fun h => inbE (o_sgs hn 0 (by omega) (c12.mp h)) (in_sg (by omega) (by omega)),
   fun h => inbE (o_chs hn 0 (by omega) (c12.mp h)) (in_ch (by omega) (by omega)),
   fun h hinb => ww_ch (o_chs hn 0 (by omega) (c12.mp h)) hinb,
   fun h => inbE (o_sgs hn 1 (by omega) (c12.mp h)) (in_sg (by omega) (by omega)),
   fun h => inbE (o_chs hn 1 (by omega) (c12.mp h)) (in_ch (by omega) (by omega)),
   fun h hinb => ww_ch (o_chs hn 1 (by omega) (c12.mp h)) hinb,
   de_ok hn, der_ok hn⟩
end

end Cert.Proof.K
-- ==== Proof.Reads.lean ====
/- Scalar reads and page fetches. -/
module

public import proofs.«01_k».proof.Proof.Holds

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

local notation "V" => Elt Bits
local notation "𝕄" => MT nD τ sig Unit (Elt Bits) ℕ (Pipeline.UD sig nD τ) ℕ

variable (M : Mems) (Δ : Data) {c : Dev nD} {α : Type} {Q : α → sProp 𝕄}

/-- The page at place `s` of row `b`, as the table holds it. -/
def Data.pgv (Δ : Data) (b s : ℕ) : BitVec 32 := Δ.PT (ix2 (Fin.ofNat 8 b) (Fin.ofNat 128 s))
theorem Data.pgv_lt (b s : ℕ) : (Δ.pgv b s).toNat < 1280 := Δ.hPT _
theorem Data.pgv_pw (w t : ℕ) : (Δ.pgv (w / 16) (w % 16 * 8 + t)).toNat = Δ.pw w t := rfl

abbrev PTm (c : Dev nD) : sProp 𝕄 := mpt c M.pt Finset.univ fullShare Δ.PT
abbrev LNm (c : Dev nD) : sProp 𝕄 := mpt c M.len Finset.univ fullShare Δ.LEN

theorem ofNat_val {n b : ℕ} [NeZero n] (h : b < n) : (Fin.ofNat n b).val = b := Nat.mod_eq_of_lt h

theorem wpp_len {o : Fin 1 → ℕ} {b : ℕ} (e : o = ![b]) (hb : b < 8) {i h1 hp} {k : BitVec 32 → Prog (TpuEff nD τ sig (Elt Bits) Λ₀ .tc) α} :
    LNm M Δ c ⊢ iprop((LNm M Δ c -∗ wpp c (k (Δ.ln b)) Q) -∗ wpp c (smemLoad M.len (Rect.unit (s := S8) o S1.size i) h1 hp >>= k) Q) := by
  subst e
  exact wpp_smemLoad (i := ix1 (Fin.ofNat 8 b)) (fun x => by
    funext a
    match a with
    | ⟨0, _⟩ =>
      apply Fin.ext
      rw [Rect.emb_apply]
      have hx : (x 0).val < 1 := (x 0).isLt
      show b + 1 * (x 0).val = (Fin.ofNat 8 b).val
      rw [ofNat_val hb]; omega)

theorem wpp_word {o : Fin 1 → ℕ} {b : ℕ} (e : o = ![b]) (hb : b < 128) {W : S128.Idx → BitVec 32} {i h1 hp} {k : BitVec 32 → Prog (TpuEff nD τ sig (Elt Bits) Λ₀ .tc) α} :
    mpt c M.work Finset.univ fullShare W ⊢ iprop((mpt c M.work Finset.univ fullShare W -∗ wpp c (k (W (ix1 (Fin.ofNat 128 b)))) Q)
      -∗ wpp c (smemLoad M.work (Rect.unit (s := S128) o S1.size i) h1 hp >>= k) Q) := by
  subst e
  exact wpp_smemLoad (i := ix1 (Fin.ofNat 128 b)) (fun x => by
    funext a
    match a with
    | ⟨0, _⟩ =>
      apply Fin.ext
      rw [Rect.emb_apply]
      have hx : (x 0).val < 1 := (x 0).isLt
      show b + 1 * (x 0).val = (Fin.ofNat 128 b).val
      rw [ofNat_val hb]; omega)

theorem wpp_page {o : Fin 2 → ℕ} {b s : ℕ} (e : o = ![b, s]) (hb : b < 8) (hs : s < 128) {i h1 hp} {k : BitVec 32 → Prog (TpuEff nD τ sig (Elt Bits) Λ₀ .tc) α} :
    PTm M Δ c ⊢ iprop((PTm M Δ c -∗ wpp c (k (Δ.pgv b s)) Q) -∗ wpp c (smemLoad M.pt (Rect.unit (s := S8x128) o S1x1.size i) h1 hp >>= k) Q) := by
  subst e
  exact wpp_smemLoad (i := ix2 (Fin.ofNat 8 b) (Fin.ofNat 128 s)) (fun x => by
    funext a
    match a with
    | ⟨0, _⟩ =>
      apply Fin.ext
      rw [Rect.emb_apply]
      have hx : (x 0).val < 1 := (x 0).isLt
      show b + 1 * (x 0).val = (Fin.ofNat 8 b).val
      rw [ofNat_val hb]; omega
    | ⟨1, _⟩ =>
      apply Fin.ext
      rw [Rect.emb_apply]
      have hx : (x 1).val < 1 := (x 1).isLt
      show s + 1 * (x 1).val = (Fin.ofNat 128 s).val
      rw [ofNat_val hs]; omega)

/-- One page's fetch: the page's number, then its transfer. -/
theorem wpp_fetch {kv : Fin 2} {σ t w : ℕ} (hσ : σ < 2) (hw : w < 128) (ht : t < Δ.np w) {o5 : Fin 2 → ℕ} (e5 : o5 = ![w / 16, w % 16 * 8 + t]) {i5 n5 p5}
    {P : BitVec 32 → Prop} {dec : ∀ v, Decidable (P v)} (hP : ∀ v : BitVec 32, v.toNat < 1280 → P v)
    {o7 : BitVec 32 → Fin 3 → ℕ} (e7 : ∀ v, o7 v = ![v.toNat, 0, 0]) {i7 : ∀ v, PLift (P v) → ∀ a, o7 v a + S1x1728x128.size a ≤ S1280x1728x128.size a}
    {o6 : Fin 5 → ℕ} (e6 : o6 = ![kv.val, σ, t, 0, 0]) {i6 r6 s6} {o3 : Fin 2 → ℕ} (e3 : o3 = ![kv.val, σ]) {i3 s3} {h1 : ∀ v (h : PLift (P v)), (((M.pool kv).slice (Rect.unit (s := S1280x1728x128) (o7 v) S1x1728x128.size (i7 v h)) (fun _ => rfl)).squeeze S1728x128 squeezes_S1x1728x128_S1728x128).view.WordExact} {h2 h3} {Q' : Unit → sProp 𝕄} :
    iprop(PTm M Δ c ∗ Slot M Δ kv σ c t ∗ RB M Δ kv σ w c t 0)
      ⊢ iprop((iprop(PTm M Δ c ∗ Rest M Δ kv σ w c t ∗ RB M Δ kv σ w c (t + 1) 0) -∗ Q' ⟨⟩)
        -∗ wpp c (smemLoad M.pt (Rect.unit (s := S8x128) o5 S1x1.size i5) n5 p5 >>= fun v =>
            Prog.lift (.assume (P v) (dec v)) >>= fun h =>
            Prog.lift (TpuEff.enqueueDma (((M.pool kv).slice (Rect.unit (s := S1280x1728x128) (o7 v) S1x1728x128.size (i7 v h)) (fun _ => rfl)).squeeze S1728x128 squeezes_S1x1728x128_S1728x128)
              (.here ((M.pages.slice (Rect.unit (s := S2x2x8x1728x128) o6 S1x1x1x1728x128.size i6) r6).squeeze S1728x128 s6))
              (.dma ((M.rsem.slice (Rect.unit (s := S2x2) o3 S1x1.size i3)).squeeze S_ s3).sem) (h1 v h) h2 h3) >>= fun _ => pure ⟨⟩) Q') := by
  have hn := Δ.np_le w
  unfold Slot Rest
  iintro ⟨HP, ⟨Hp, ⟨%Y, HY⟩⟩, HB⟩ Hk
  iapply (wpp_page M Δ e5 (by omega) (by omega)) $$ HP
  iintro HP
  iapply (wpp_assume (hP _ (Δ.pgv_lt _ _)))
  iapply (wpp_read M Δ hσ (qq σ) ((e7 _).trans (by rw [Δ.pgv_pw])) e6 e3 (Y := Y) ht) $$ [Hp HY HB]
  · isplitl [Hp]; · iexact Hp
    isplitl [HY]; · iexact HY
    iexact HB
  iintro ⟨Hr, HB⟩
  iapply wpp_ret
  iapply Hk
  isplitl [HP]; · iexact HP
  isplitl [Hr]; · iexact Hr
  iexact HB

/-! ## The fetches of the region -/

section
variable {w : ℕ} (hw : w < 128)
include hw

theorem t4_body (v1 : BitVec 32) (hc : k0_cond1 v1 = 1#1) (x y z z' : BitVec 32) (hk : k0_chk3 v1 (BitVec.ofNat 32 w) (Δ.ln (w / 16)))
    (t : Fin (k0_t4_loop (BitVec.ofNat 32 w) (Δ.ln (w / 16))).trips) (ht : t.val < Δ.np w) (Q' : Unit → sProp 𝕄) :
    iprop(PTm M Δ c ∗ Slot M Δ 0 0 c t.val ∗ RB M Δ 0 0 w c t.val 0)
      ⊢ iprop((iprop(PTm M Δ c ∗ Rest M Δ 0 0 w c t.val ∗ RB M Δ 0 0 w c (t.val + 1) 0) -∗ Q' ⟨⟩)
        -∗ wpp c (k0_t4_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem v1 hc (BitVec.ofNat 32 w) x y (Δ.ln (w / 16)) hk z z' t ⟨⟩) Q') :=
  wpp_fetch M Δ (by omega) hw ht (o_pt hw (lt_of_lt_of_le ht (Δ.np_le w))) (fun _ hv => chk4_holds v1 hv) (fun _ => rfl)
    (o_piece 0 0 (by have := Δ.np_le w; omega)) rfl

theorem t6_body (v1 : BitVec 32) (hc : k0_cond1 v1 = 1#1)  (hk : k0_chk7 v1 (BitVec.ofNat 32 w) (Δ.ln (w / 16)))
    (t : Fin (k0_t6_loop (BitVec.ofNat 32 w) (Δ.ln (w / 16))).trips) (ht : t.val < Δ.np w) (Q' : Unit → sProp 𝕄) :
    iprop(PTm M Δ c ∗ Slot M Δ 1 0 c t.val ∗ RB M Δ 1 0 w c t.val 0)
      ⊢ iprop((iprop(PTm M Δ c ∗ Rest M Δ 1 0 w c t.val ∗ RB M Δ 1 0 w c (t.val + 1) 0) -∗ Q' ⟨⟩)
        -∗ wpp c (k0_t6_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem v1 hc (BitVec.ofNat 32 w) (Δ.ln (w / 16)) hk t ⟨⟩) Q') :=
  wpp_fetch M Δ (by omega) hw ht (o_pt hw (lt_of_lt_of_le ht (Δ.np_le w))) (fun _ hv => chk8_holds v1 hv) (fun _ => rfl)
    (o_piece 1 0 (by have := Δ.np_le w; omega)) rfl

theorem t8_body (v1 : BitVec 32) (hc : k0_cond2 v1 = 1#1) (x y z z' : BitVec 32) (hk : k0_chk11 v1 (BitVec.ofNat 32 w) (Δ.ln (w / 16)))
    (t : Fin (k0_t8_loop (BitVec.ofNat 32 w) (Δ.ln (w / 16))).trips) (ht : t.val < Δ.np w) (Q' : Unit → sProp 𝕄) :
    iprop(PTm M Δ c ∗ Slot M Δ 0 1 c t.val ∗ RB M Δ 0 1 w c t.val 0)
      ⊢ iprop((iprop(PTm M Δ c ∗ Rest M Δ 0 1 w c t.val ∗ RB M Δ 0 1 w c (t.val + 1) 0) -∗ Q' ⟨⟩)
        -∗ wpp c (k0_t8_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem v1 hc (BitVec.ofNat 32 w) x y (Δ.ln (w / 16)) hk z z' t ⟨⟩) Q') :=
  wpp_fetch M Δ (by omega) hw ht (o_pt hw (lt_of_lt_of_le ht (Δ.np_le w))) (fun _ hv => chk12_holds v1 hv) (fun _ => rfl)
    (o_piece 0 1 (by have := Δ.np_le w; omega)) rfl

theorem t10_body (v1 : BitVec 32) (hc : k0_cond2 v1 = 1#1)  (hk : k0_chk15 v1 (BitVec.ofNat 32 w) (Δ.ln (w / 16)))
    (t : Fin (k0_t10_loop (BitVec.ofNat 32 w) (Δ.ln (w / 16))).trips) (ht : t.val < Δ.np w) (Q' : Unit → sProp 𝕄) :
    iprop(PTm M Δ c ∗ Slot M Δ 1 1 c t.val ∗ RB M Δ 1 1 w c t.val 0)
      ⊢ iprop((iprop(PTm M Δ c ∗ Rest M Δ 1 1 w c t.val ∗ RB M Δ 1 1 w c (t.val + 1) 0) -∗ Q' ⟨⟩)
        -∗ wpp c (k0_t10_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem v1 hc (BitVec.ofNat 32 w) (Δ.ln (w / 16)) hk t ⟨⟩) Q') :=
  wpp_fetch M Δ (by omega) hw ht (o_pt hw (lt_of_lt_of_le ht (Δ.np_le w))) (fun _ hv => chk16_holds v1 hv) (fun _ => rfl)
    (o_piece 1 1 (by have := Δ.np_le w; omega)) rfl

variable {n : ℕ} (hn : n ≤ 128)
include hn

theorem t41_body (h19 : k0_chk19 (BitVec.ofNat 32 n)) (i : Fin (k0_t34_loop (BitVec.ofNat 32 n)).trips) (a18 : BitVec 32) (x y z u l q : BitVec 32) (h21 : k0_chk21 (BitVec.ofNat 32 n) i x u) (hc : k0_cond4 (BitVec.ofNat 32 n) i = 1#1) (hk : k0_chk25 (BitVec.ofNat 32 n) i (BitVec.ofNat 32 w) (Δ.ln (w / 16)))
    (t : Fin (k0_t41_loop (BitVec.ofNat 32 w) (Δ.ln (w / 16))).trips) (ht : t.val < Δ.np w) (Q' : Unit → sProp 𝕄) :
    iprop(PTm M Δ c ∗ Slot M Δ 0 (i.val % 2) c t.val ∗ RB M Δ 0 (i.val % 2) w c t.val 0)
      ⊢ iprop((iprop(PTm M Δ c ∗ Rest M Δ 0 (i.val % 2) w c t.val ∗ RB M Δ 0 (i.val % 2) w c (t.val + 1) 0) -∗ Q' ⟨⟩)
        -∗ wpp c (k0_t41_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem (BitVec.ofNat 32 n) h19 i a18 l x y z u h21 q hc (BitVec.ofNat 32 w) (Δ.ln (w / 16)) hk t ⟨⟩) Q') :=
  wpp_fetch M Δ (by omega) hw ht (o_pt hw (lt_of_lt_of_le ht (Δ.np_le w))) (fun _ hv => chk26_holds _ _ hv) (fun _ => rfl)
    (o_piece' 0 (by have := it_lt hn i; omega) (by have := Δ.np_le w; omega)) (o_sg 0 (by have := it_lt hn i; omega))

theorem t49_body (h19 : k0_chk19 (BitVec.ofNat 32 n)) (i : Fin (k0_t34_loop (BitVec.ofNat 32 n)).trips) (a18 : BitVec 32) (x y z u l q : BitVec 32) (h20 : k0_chk20 x) (h21 : k0_chk21 (BitVec.ofNat 32 n) i x u) (hc : k0_cond6 (BitVec.ofNat 32 n) i = 1#1) (hk : k0_chk31 (BitVec.ofNat 32 n) i (BitVec.ofNat 32 w) (Δ.ln (w / 16)))
    (t : Fin (k0_t49_loop (BitVec.ofNat 32 w) (Δ.ln (w / 16))).trips) (ht : t.val < Δ.np w) (Q' : Unit → sProp 𝕄) :
    iprop(PTm M Δ c ∗ Slot M Δ 1 (i.val % 2) c t.val ∗ RB M Δ 1 (i.val % 2) w c t.val 0)
      ⊢ iprop((iprop(PTm M Δ c ∗ Rest M Δ 1 (i.val % 2) w c t.val ∗ RB M Δ 1 (i.val % 2) w c (t.val + 1) 0) -∗ Q' ⟨⟩)
        -∗ wpp c (k0_t49_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem (BitVec.ofNat 32 n) h19 i a18 l x h20 y z u h21 q hc (BitVec.ofNat 32 w) (Δ.ln (w / 16)) hk t ⟨⟩) Q') :=
  wpp_fetch M Δ (by omega) hw ht (o_pt hw (lt_of_lt_of_le ht (Δ.np_le w))) (fun _ hv => chk32_holds _ _ hv) (fun _ => rfl)
    (o_piece' 1 (by have := it_lt hn i; omega) (by have := Δ.np_le w; omega)) (o_sg 1 (by have := it_lt hn i; omega))

theorem t35_body (h19 : k0_chk19 (BitVec.ofNat 32 n)) (i : Fin (k0_t34_loop (BitVec.ofNat 32 n)).trips) (a18 y z l q : BitVec 32)  (h21 : k0_chk21 (BitVec.ofNat 32 n) i (BitVec.ofNat 32 w) (Δ.ln (w / 16)))
    (t : Fin (k0_t35_loop (BitVec.ofNat 32 w) (Δ.ln (w / 16))).trips) (ht : t.val < Δ.np w) (u : ℕ) (hu : u + M.NR ≤ M.NR * Δ.np w) (Q' : Unit → sProp 𝕄) :
    iprop(RB M Δ 0 (i.val % 2) w c (Δ.np w) u ∗ OW c)
      ⊢ iprop((iprop(RB M Δ 0 (i.val % 2) w c (Δ.np w) (u + M.NR) ∗ OW c) -∗ Q' ⟨⟩)
        -∗ wpp c (k0_t35_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem (BitVec.ofNat 32 n) h19 i a18 l (BitVec.ofNat 32 w) y z (Δ.ln (w / 16)) h21 q t ⟨⟩) Q') := by
  iintro ⟨HB, HO⟩ Hk
  unfold k0_t35_body
  iapply (wpp_wait' (sem := M.semR 0 (i.val % 2)) (sem2_eq M.rsem (kv := 0) (σ := i.val % 2) (o_sg 0 (by have := it_lt hn i; omega)) (by omega) _ _) M.NR rfl hu) $$ [HB HO]
  · isplitl [HB]; · iexact HB
    iexact HO
  iintro ⟨HB, HO⟩
  iapply wpp_ret
  iapply Hk
  isplitl [HB]; · iexact HB
  iexact HO

theorem t43_body (h19 : k0_chk19 (BitVec.ofNat 32 n)) (i : Fin (k0_t34_loop (BitVec.ofNat 32 n)).trips) (a18 y z l q : BitVec 32) (h20 : k0_chk20 (BitVec.ofNat 32 w)) (h21 : k0_chk21 (BitVec.ofNat 32 n) i (BitVec.ofNat 32 w) (Δ.ln (w / 16)))
    (t : Fin (k0_t43_loop (BitVec.ofNat 32 w) (Δ.ln (w / 16))).trips) (ht : t.val < Δ.np w) (u : ℕ) (hu : u + M.NR ≤ M.NR * Δ.np w) (Q' : Unit → sProp 𝕄) :
    iprop(RB M Δ 1 (i.val % 2) w c (Δ.np w) u ∗ OW c)
      ⊢ iprop((iprop(RB M Δ 1 (i.val % 2) w c (Δ.np w) (u + M.NR) ∗ OW c) -∗ Q' ⟨⟩)
        -∗ wpp c (k0_t43_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem (BitVec.ofNat 32 n) h19 i a18 l (BitVec.ofNat 32 w) h20 y z (Δ.ln (w / 16)) h21 q t ⟨⟩) Q') := by
  iintro ⟨HB, HO⟩ Hk
  unfold k0_t43_body
  iapply (wpp_wait' (sem := M.semR 1 (i.val % 2)) (sem2_eq M.rsem (kv := 1) (σ := i.val % 2) (o_sg 1 (by have := it_lt hn i; omega)) (by omega) _ _) M.NR rfl hu) $$ [HB HO]
  · isplitl [HB]; · iexact HB
    iexact HO
  iintro ⟨HB, HO⟩
  iapply wpp_ret
  iapply Hk
  isplitl [HB]; · iexact HB
  iexact HO

end

end Cert.Proof.K
-- ==== Proof.Deq.lean ====
/- The chunks: dequantised pages and blank rows. -/
module

public import proofs.«01_k».proof.Proof.Tables
public import proofs.«01_k».proof.Proof.Reads

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

local notation "V" => Elt Bits
local notation "𝕄" => MT nD τ sig Unit (Elt Bits) ℕ (Pipeline.UD sig nD τ) ℕ

variable (M : Mems) (Δ : Data) {c : Dev nD} {α : Type} {Q : α → sProp 𝕄}

theorem wpp_bind' {β : Type} (p : Prog (TpuEff nD τ sig (Elt Bits) Λ₀ .tc) β) (k : β → Prog (TpuEff nD τ sig (Elt Bits) Λ₀ .tc) α) :
    wpp c p (fun x => wpp c (k x) Q) ⊢ wpp c (p >>= k) Q := wpp_bind p k

/-- A chunk with its first pages done, and the first heads of the next. -/
def DQ (kv : Fin 2) (σ w : ℕ) (j h : ℕ) (c : Dev nD) : sProp 𝕄 :=
  iprop(∃ X, mpt c M.chunks (chset kv σ) fullShare X
    ∗ ⌜∀ i : S2x2x108x128x128.Idx, ((i 3).val / 16 < j ∨ ((i 3).val / 16 = j ∧ (i 2).val < h)) → X i = Δ.CHB kv w i⌝)

theorem DQ_next (kv : Fin 2) (σ w j : ℕ) : DQ M Δ kv σ w j 108 c ⊢ DQ M Δ kv σ w (j + 1) 0 c := by
  unfold DQ
  iintro ⟨%X, H, %hX⟩
  iexists X
  isplitl [H]; · iexact H
  ipureintro
  intro i hi
  have h2 : (i 2).val < 108 := (i 2).isLt
  refine hX i ?_
  omega

theorem DQ_all (kv : Fin 2) (σ w : ℕ) : DQ M Δ kv σ w 8 0 c ⊢ mpt c M.chunks (chset kv σ) fullShare (Δ.CHB kv w) := by
  unfold DQ
  iintro ⟨%X, H, %hX⟩
  have e : mpt c M.chunks (chset kv σ) fullShare X = mpt c M.chunks (chset kv σ) fullShare (Δ.CHB kv w) := mpt_congr M.chunks (fun i _ => hX i (by
    have h3 : (i 3).val < 128 := (i 3).isLt
    omega))
  iapply (Entails.of_eq e)
  iexact H

theorem row128 {j : ℕ} (hj : j < 8) (r : Fin 16) : j * 16 + r.val < 128 := by omega

/-- Where a row block of the chunk lies. -/
theorem chunk_at (kv : Fin 2) {σ : ℕ} (hσ : σ < 2) {j hd : ℕ} (hj : j < 8) (hh : hd < 108) {o : Fin 5 → ℕ} (e : o = ![kv.val, σ, hd, j * 16, 0]) (h) (x0 x1 x2 : Fin 1) (r : Fin 16) (d : Fin 128) :
    (Rect.unit (s := S2x2x108x128x128) o S1x1x1x16x128.size h).emb (ix5 x0 x1 x2 r d)
      = ix5 kv (⟨σ, hσ⟩ : Fin 2) (⟨hd, hh⟩ : Fin 108) (⟨j * 16 + r.val, row128 hj r⟩ : Fin 128) d := by
  subst e
  funext a
  apply Fin.ext
  rw [Rect.emb_apply]
  match a with
  | ⟨0, _⟩ => show kv.val + 1 * x0.val = kv.val; omega
  | ⟨1, _⟩ => show σ + 1 * x1.val = σ; omega
  | ⟨2, _⟩ => show hd + 1 * x2.val = hd; omega
  | ⟨3, _⟩ => show j * 16 + 1 * r.val = j * 16 + r.val; omega
  | ⟨4, _⟩ => show 0 + 1 * d.val = d.val; omega

/-- One row block of the chunk. -/
theorem wpp_rows (kv : Fin 2) {σ w : ℕ} (hσ : σ < 2) {j hd : ℕ} (hj : j < 8) (hh : hd < 108) {o : Fin 5 → ℕ} (e : o = ![kv.val, σ, hd, j * 16, 0])
    {u : Vec Bits S1x1x1x16x128 .bf16} (hu : ∀ (x0 x1 x2 : Fin 1) (r : Fin 16) (d : Fin 128), u (ix5 x0 x1 x2 r d)
      = Δ.CHB kv w (ix5 kv (⟨σ, hσ⟩ : Fin 2) (⟨hd, hh⟩ : Fin 108) (⟨j * 16 + r.val, row128 hj r⟩ : Fin 128) d)) {i hl hx hm}
    {k : PUnit → Prog (TpuEff nD τ sig (Elt Bits) Λ₀ .tc) α} :
    DQ M Δ kv σ w j hd c ⊢ iprop((DQ M Δ kv σ w j (hd + 1) c -∗ wpp c (k ⟨⟩) Q)
      -∗ wpp c (Prog.lift (.load M.chunks (Rect.unit (s := S2x2x108x128x128) o S1x1x1x16x128.size i).toLoadRect hl) >>= fun _ : Vec Bits S1x1x1x16x128 .bf16 =>
          Prog.lift (.store M.chunks (Rect.unit (s := S2x2x108x128x128) o S1x1x1x16x128.size i) u Finset.univ hx hm) >>= k) Q) := by
  have hmem : (Rect.unit (s := S2x2x108x128x128) o S1x1x1x16x128.size i).set ⊆ chset kv σ := by
    intro x hx
    rw [← Rect.map_emb_univ] at hx
    obtain ⟨y, -, rfl⟩ := Finset.mem_map.1 hx
    obtain ⟨x0, x1, x2, r, d, rfl⟩ := ix5_ex (a := 1) (b := 1) (d := 1) (e := 16) (f := 128) y
    refine Finset.mem_filter.2 ⟨Finset.mem_univ _, ?_⟩
    have e1 := chunk_at kv hσ hj hh e i x0 x1 x2 r d
    exact ⟨congrArg (fun z : S2x2x108x128x128.Idx => (z 0).val) e1, congrArg (fun z : S2x2x108x128x128.Idx => (z 1).val) e1⟩
  unfold DQ
  iintro ⟨%X, H, %hX⟩ Hk
  iapply (wpp_load (β := Unit) (I := chset kv σ) (X := X) (q := fullShare) hmem) $$ H
  iintro H
  iapply (wpp_store (I := chset kv σ) (X := X) (Y := fun i => if (i 3).val / 16 = j ∧ (i 2).val = hd then Δ.CHB kv w i else X i) hmem (by
    intro y
    obtain ⟨x0, x1, x2, r, d, rfl⟩ := ix5_ex (a := 1) (b := 1) (d := 1) (e := 16) (f := 128) y
    rw [chunk_at kv hσ hj hh e i x0 x1 x2 r d, hu]
    exact if_pos ⟨show (j * 16 + r.val) / 16 = j by omega, rfl⟩) (by
    intro x hxs hx
    rw [if_neg]
    intro h
    apply hx
    obtain ⟨-, h0, h1⟩ := Finset.mem_filter.1 hxs
    obtain ⟨x0, x1, x2, x3, x4, rfl⟩ := ix5_ex (a := 2) (b := 2) (d := 108) (e := 128) (f := 128) x
    obtain ⟨h3, h2⟩ := h
    have h3' : x3.val / 16 = j := h3
    rw [← Rect.map_emb_univ]
    refine Finset.mem_map.2 ⟨ix5 (0 : Fin 1) (0 : Fin 1) (0 : Fin 1) (⟨x3.val % 16, Nat.mod_lt _ (by decide)⟩ : Fin 16) x4, Finset.mem_univ _, (chunk_at kv hσ hj hh e i _ _ _ _ _).trans ?_⟩
    have e0 : x0 = kv := Fin.ext h0
    have e1 : x1 = ⟨σ, hσ⟩ := Fin.ext h1
    have e2 : x2 = ⟨hd, hh⟩ := Fin.ext h2
    have e3 : (⟨j * 16 + x3.val % 16, row128 hj ⟨x3.val % 16, Nat.mod_lt _ (by decide)⟩⟩ : Fin 128) = x3 := Fin.ext (show j * 16 + x3.val % 16 = x3.val by omega)
    rw [e0, e1, e2]
    exact congrArg (fun z => ix5 kv (⟨σ, hσ⟩ : Fin 2) (⟨hd, hh⟩ : Fin 108) z x4) e3)) $$ H
  iintro H
  iapply Hk
  iexists _
  isplitl [H]; · iexact H
  ipureintro
  intro i hi
  by_cases h : (i 3).val / 16 = j ∧ (i 2).val = hd
  · exact if_pos h
  · exact (if_neg h).trans (hX i (by omega))

/-! ## The chunk's values -/

theorem head_row {h g : ℕ} (hh : h < 54) (hg : g < 2) (r : Fin 16) : 2 * h * 16 + (16 * g + r.val) < 1728 := by omega
theorem head_lt {h g : ℕ} (hh : h < 54) (hg : g < 2) : 2 * h + g < 108 := by omega

theorem CHB_at (kv : Fin 2) {w j h g : ℕ} (hw : w < 128) (hj : j < 8) (hh : h < 54) (hg : g < 2) (x1 : Fin 2) (r : Fin 16) (d : Fin 128) :
    Δ.CHB kv w (ix5 kv x1 (⟨2 * h + g, head_lt hh hg⟩ : Fin 108) (⟨j * 16 + r.val, row128 hj r⟩ : Fin 128) d)
      = if (w % 16 * 8 + j) * 16 + r.val < clipLen (Δ.ln (w / 16)) then
          val (Δ.P kv (ix3 (⟨Δ.pw w j, Δ.pw_lt _ _⟩ : Fin 1280) (⟨2 * h * 16 + (16 * g + r.val), head_row hh hg r⟩ : Fin 1728) d))
            (rnd (Δ.SC kv (ix3 (⟨2 * h + g, head_lt hh hg⟩ : Fin 108) r (⟨Δ.pw w j, Δ.pw_lt _ _⟩ : Fin 1280))))
        else (0 : BitVec 16) := by
  show Δ.res kv (w / 16) _ (w % 16 * 128 + (j * 16 + r.val)) d = _
  unfold Data.res
  have h1 : (w % 16 * 128 + (j * 16 + r.val)) / 16 = w % 16 * 8 + j := by omega
  have h2 : (w % 16 * 128 + (j * 16 + r.val)) % 16 = r.val := by omega
  have h3 : w % 16 * 128 + (j * 16 + r.val) = (w % 16 * 8 + j) * 16 + r.val := by omega
  have hp : Δ.pgF (w / 16) ((w % 16 * 128 + (j * 16 + r.val)) / 16) = (⟨Δ.pw w j, Δ.pw_lt _ _⟩ : Fin 1280) := by rw [h1]; rfl
  rw [hp]
  have hr : (⟨(w % 16 * 128 + (j * 16 + r.val)) % 16, by omega⟩ : Fin 16) = r := Fin.ext h2
  have hq : (⟨(2 * h + g) * 16 + (w % 16 * 128 + (j * 16 + r.val)) % 16, by omega⟩ : Fin 1728) = ⟨2 * h * 16 + (16 * g + r.val), head_row hh hg r⟩ := Fin.ext (by show (2 * h + g) * 16 + (w % 16 * 128 + (j * 16 + r.val)) % 16 = 2 * h * 16 + (16 * g + r.val); omega)
  rw [if_congr (by rw [h3]) rfl rfl]
  refine if_congr Iff.rfl ?_ rfl
  exact congr (congrArg val (congrArg (fun z => Δ.P kv (ix3 (⟨Δ.pw w j, Δ.pw_lt _ _⟩ : Fin 1280) z d)) hq))
    (congrArg (fun z => rnd (Δ.SC kv (ix3 (⟨2 * h + g, head_lt hh hg⟩ : Fin 108) z (⟨Δ.pw w j, Δ.pw_lt _ _⟩ : Fin 1280)))) hr)

/-- Beyond its pages a window holds zeros. -/
theorem CHB_blank (kv : Fin 2) {w j : ℕ} (hw : w < 128) (hj : j < 8) (hn : Δ.np w ≤ j) (hd : Fin 108) (x1 : Fin 2) (r : Fin 16) (d : Fin 128) :
    Δ.CHB kv w (ix5 kv x1 hd (⟨j * 16 + r.val, row128 hj r⟩ : Fin 128) d) = (0 : BitVec 16) := by
  show Δ.res kv (w / 16) _ (w % 16 * 128 + (j * 16 + r.val)) d = _
  unfold Data.res
  refine if_neg ?_
  unfold Data.np npg npages at hn
  omega

/-- The table's entry for a page, at a head and row. -/
theorem TB_at (kv : Fin 2) {p hd : ℕ} (hp : p < 1280) (hh : hd < 108) (r : Fin 16) :
    half (Δ.TB (ix5 kv (⟨p / 128, by omega⟩ : Fin 10) (⟨hd, hh⟩ : Fin 108) (⟨r.val / 2, by omega⟩ : Fin 8) (⟨p % 128, Nat.mod_lt _ (by decide)⟩ : Fin 128))) r
      = rnd (Δ.SC kv (ix3 (⟨hd, hh⟩ : Fin 108) r (⟨p, hp⟩ : Fin 1280))) := by
  have hpg : (⟨p / 128 * 128 + p % 128, by omega⟩ : Fin 1280) = ⟨p, hp⟩ := Fin.ext (show p / 128 * 128 + p % 128 = p by omega)
  show half (_ ++ _) r.val = _
  rw [half_append]
  have e : ∀ z : Fin 16, z = r → (rnd (Δ.SC kv (ix3 (⟨hd, hh⟩ : Fin 108) z (⟨p / 128 * 128 + p % 128, by omega⟩ : Fin 1280))) : BitVec 16)
      = rnd (Δ.SC kv (ix3 (⟨hd, hh⟩ : Fin 108) r (⟨p, hp⟩ : Fin 1280))) := by
    intro z hz
    rw [hz, hpg]
  split
  · exact e _ (Fin.ext (show 2 * (r.val / 2) = r.val by omega))
  · exact e _ (Fin.ext (show 2 * (r.val / 2) + 1 = r.val by omega))

/-! ## The dequantisation's program -/

def oC (kv i j h : ℕ) : Fin 5 → ℕ := ![kv, (Scalar.indexCast (Scalar.remsi (Scf.iv 0#32 1#32 i) 2#32)).toNat, (Scalar.indexCast (Scf.iv 0#32 1#32 j)).toNat, 32 * h, 0]
def oB (kv : ℕ) (v : BitVec 32) (h g : ℕ) : Fin 5 → ℕ := ![kv, (Scalar.indexCast (fdiv v 128#32)).toNat, 2 * h + g, 0, 0]
def oD (kv i j h g : ℕ) : Fin 5 → ℕ := ![kv, (Scalar.indexCast (Scalar.remsi (Scf.iv 0#32 1#32 i) 2#32)).toNat, 2 * h + g, (Scalar.indexCast (Scalar.muli (Scf.iv 0#32 1#32 j) 16#32)).toNat, 0]
theorem oC_eq (kv : ℕ) {i j h : ℕ} (hi : i < 128) (hj : j < 8) : oC kv i j h = ![kv, i % 2, j, 2 * h * 16, 0] := by
  rw [show 2 * h * 16 = 32 * h from by omega]; exact o_codes kv _ (by omega) hj
theorem oB_eq (kv : ℕ) {p h g : ℕ} (hp : p < 1280) : oB kv (BitVec.ofNat 32 p) h g = ![kv, p / 128, 2 * h + g, 0, 0] := o_tab kv _ hp
theorem oD_eq (kv : ℕ) {i j h g : ℕ} (hi : i < 128) (hj : j < 8) : oD kv i j h g = ![kv, i % 2, 2 * h + g, j * 16, 0] := o_dst kv _ (by omega) hj
theorem oC_in {kv i j h : ℕ} (hk : kv < 2) (hi : i < 128) (hj : j < 8) (hh : h < 54) : ∀ a, oC kv i j h a + S1x1x1x32x128.size a ≤ S2x2x8x1728x128.size a := by
  rw [oC_eq kv hi hj]; exact in_codes hk (by omega) hj (by omega)
theorem oD_in {kv i j h g : ℕ} (hk : kv < 2) (hi : i < 128) (hj : j < 8) (hh : h < 54) (hg : g < 2) : ∀ a, oD kv i j h g a + S1x1x1x16x128.size a ≤ S2x2x108x128x128.size a := by
  rw [oD_eq kv hi hj]; exact in_dst hk (by omega) (by omega) (by omega)

theorem oB_in {kv : ℕ} {v : BitVec 32} (hk : kv < 2) (hq : (Scalar.indexCast (fdiv v 128#32)).toNat + 1 ≤ 10) {h g : ℕ} (hh : h < 54) (hg : g < 2) :
    ∀ a, oB kv v h g a + S1x1x1x8x128.size a ≤ S2x10x108x8x128.size a := in_tab hk hq (by omega)

section
variable (kv : Fin 2) {i j : ℕ} (hi : i < 128) (hj : j < 8)

/-- A pair of heads of a page. -/
def deqHead (v L s : BitVec 32) (hT : ∀ h, h < 54 → ∀ g : Fin 2, ∀ a, oB kv.val v h g.val a + S1x1x1x8x128.size a ≤ S2x10x108x8x128.size a) {h : ℕ} (hh : h < 54) : Prog (TpuEff nD τ sig (Elt Bits) Λ₀ .tc) Unit := do
  let x : Vec Bits S1x1x1x32x128 .fp8e4m3 ← Prog.lift (.load M.pages (Rect.unit (s := S2x2x8x1728x128) (oC kv.val i j h) S1x1x1x32x128.size (oC_in kv.isLt hi hj hh)).toLoadRect (View.loadsAt_vmem h_S1x1x1x32x128))
  let t0 : Vec Bits S1x1x1x8x128 .i32 ← Prog.lift (.load M.tables (Rect.unit (s := S2x10x108x8x128) (oB kv.val v h 0) S1x1x1x8x128.size (hT h hh 0)).toLoadRect (View.loadsAt_vmem h_S1x1x1x8x128))
  let _ : Vec Bits S1x1x1x16x128 .bf16 ← Prog.lift (.load M.chunks (Rect.unit (s := S2x2x108x128x128) (oD kv.val i j h 0) S1x1x1x16x128.size (oD_in kv.isLt hi hj hh (by decide))).toLoadRect (View.loadsAt_vmem h_S1x1x1x16x128))
  Prog.lift (.store M.chunks (Rect.unit (s := S2x2x108x128x128) (oD kv.val i j h 0) S1x1x1x16x128.size (oD_in kv.isLt hi hj hh (by decide))) (k0_pay192 (k0_pay181 (F := Bits) v) (k0_pay182 L s) (k0_pay183 x) t0) Finset.univ
    (View.stores_vmem h_S1x1x1x16x128 (M.hchunks.storeExact_slice rfl _ (pk_dst (oD_eq kv.val hi hj) _)) (fun _ => rfl)) (.inl rfl))
  let t1 : Vec Bits S1x1x1x8x128 .i32 ← Prog.lift (.load M.tables (Rect.unit (s := S2x10x108x8x128) (oB kv.val v h 1) S1x1x1x8x128.size (hT h hh 1)).toLoadRect (View.loadsAt_vmem h_S1x1x1x8x128))
  let _ : Vec Bits S1x1x1x16x128 .bf16 ← Prog.lift (.load M.chunks (Rect.unit (s := S2x2x108x128x128) (oD kv.val i j h 1) S1x1x1x16x128.size (oD_in kv.isLt hi hj hh (by decide))).toLoadRect (View.loadsAt_vmem h_S1x1x1x16x128))
  Prog.lift (.store M.chunks (Rect.unit (s := S2x2x108x128x128) (oD kv.val i j h 1) S1x1x1x16x128.size (oD_in kv.isLt hi hj hh (by decide))) (k0_pay186 (k0_pay181 (F := Bits) v) (k0_pay182 L s) (k0_pay183 x) t1) Finset.univ
    (View.stores_vmem h_S1x1x1x16x128 (M.hchunks.storeExact_slice rfl _ (pk_dst (oD_eq kv.val hi hj) _)) (fun _ => rfl)) (.inl rfl))
  pure ⟨⟩

theorem head_of (m : ℕ) : 53 - m < 54 := by omega
/-- The last pairs of heads of a page. -/
def deqFrom (v L s : BitVec 32) (hT : ∀ h, h < 54 → ∀ g : Fin 2, ∀ a, oB kv.val v h g.val a + S1x1x1x8x128.size a ≤ S2x10x108x8x128.size a) (m : ℕ) : Prog (TpuEff nD τ sig (Elt Bits) Λ₀ .tc) Unit :=
  Nat.rec (pure ⟨⟩) (fun m rest => deqHead M kv hi hj v L s hT (head_of m) >>= fun _ => rest) m

def oP (vw : BitVec 32) (j : ℕ) : Fin 2 → ℕ := ![(Scalar.indexCast (fdiv vw 16#32)).toNat, (Scalar.indexCast (Scalar.addi (Scalar.muli (fmod16 vw) 8#32) (Scf.iv 0#32 1#32 j))).toNat]
def oL (vw : BitVec 32) : Fin 1 → ℕ := ![(Scalar.indexCast (fdiv vw 16#32)).toNat]

/-- A page. -/
def deqPage (vw : BitVec 32) {P : BitVec 32 → Prop} (dec : ∀ v, Decidable (P v)) (i5 : ∀ a, oP vw j a + S1x1.size a ≤ S8x128.size a) (i1 : ∀ a, oL vw a + S1.size a ≤ S8.size a)
    (hT : ∀ v, P v → ∀ h, h < 54 → ∀ g : Fin 2, ∀ a, oB kv.val v h g.val a + S1x1x1x8x128.size a ≤ S2x10x108x8x128.size a) : Prog (TpuEff nD τ sig (Elt Bits) Λ₀ .tc) Unit :=
  smemLoad M.pt (Rect.unit (s := S8x128) (oP vw j) S1x1.size i5) numel1_S1x1 rfl >>= fun v =>
  Prog.lift (.assume (P v) (dec v)) >>= fun hv =>
  smemLoad M.len (Rect.unit (s := S8) (oL vw) S1.size i1) numel1_S1 rfl >>= fun l =>
  deqFrom M kv hi hj v (Scalar.minsi 2048#32 (Scalar.maxsi 0#32 l)) (Scalar.muli (Scalar.addi (Scalar.muli (fmod16 vw) 8#32) (Scf.iv 0#32 1#32 j)) 16#32) (hT v hv.down) 54

abbrev TBm (c : Dev nD) : sProp 𝕄 := mpt c M.tables Finset.univ fullShare Δ.TB
abbrev PGm (kv : Fin 2) (σ w j : ℕ) (c : Dev nD) : sProp 𝕄 := mpt c M.pages (pieceset kv σ j) fullShare (Δ.PGB kv w)

include hi hj in
theorem codes_in {h : ℕ} (hh : h < 54) (hin) : (Rect.unit (s := S2x2x8x1728x128) (oC kv.val i j h) S1x1x1x32x128.size hin).toLoadRect.set ⊆ pieceset kv (i % 2) j := by
  have e := oC_eq kv.val (h := h) hi hj
  intro x hx
  have h0 : oC kv.val i j h 0 ≤ (x 0).val ∧ (x 0).val < oC kv.val i j h 0 + 1 := Rect.mem_set_unit.1 hx 0
  have h1 : oC kv.val i j h 1 ≤ (x 1).val ∧ (x 1).val < oC kv.val i j h 1 + 1 := Rect.mem_set_unit.1 hx 1
  have h2 : oC kv.val i j h 2 ≤ (x 2).val ∧ (x 2).val < oC kv.val i j h 2 + 1 := Rect.mem_set_unit.1 hx 2
  rw [e] at h0 h1 h2
  have h0 : kv.val ≤ (x 0).val ∧ (x 0).val < kv.val + 1 := h0
  have h1 : i % 2 ≤ (x 1).val ∧ (x 1).val < i % 2 + 1 := h1
  have h2 : j ≤ (x 2).val ∧ (x 2).val < j + 1 := h2
  exact Finset.mem_filter.2 ⟨Finset.mem_univ _, by omega, by omega, by omega⟩

include hi hj in
theorem codes_at {h w : ℕ} (hh : h < 54) {g : ℕ} (hg : g < 2) (hin) (r : Fin 16) (d : Fin 128) :
    Δ.PGB kv w ((Rect.unit (s := S2x2x8x1728x128) (oC kv.val i j h) S1x1x1x32x128.size hin).toLoadRect.idx (ix5 (0 : Fin 1) (0 : Fin 1) (0 : Fin 1) (⟨16 * g + r.val, by omega⟩ : Fin 32) d))
      = Δ.P kv (ix3 (⟨Δ.pw w j, Δ.pw_lt _ _⟩ : Fin 1280) (⟨2 * h * 16 + (16 * g + r.val), head_row hh hg r⟩ : Fin 1728) d) := by
  have e := oC_eq kv.val (h := h) hi hj
  unfold Data.PGB
  congr 1
  funext a
  apply Fin.ext
  match a with
  | ⟨0, _⟩ =>
    have h1 : oC kv.val i j h 2 = j := by rw [e]; rfl
    show Δ.pw w (oC kv.val i j h 2 + 1 * 0) = Δ.pw w j
    rw [h1]; rfl
  | ⟨1, _⟩ =>
    have h1 : oC kv.val i j h 3 = 2 * h * 16 := by rw [e]; rfl
    show oC kv.val i j h 3 + 1 * (16 * g + r.val) = 2 * h * 16 + (16 * g + r.val)
    rw [h1]; omega
  | ⟨2, _⟩ =>
    have h1 : oC kv.val i j h 4 = 0 := by rw [e]; rfl
    show oC kv.val i j h 4 + 1 * d.val = d.val
    rw [h1]; omega

theorem table_at {h : ℕ} (hh : h < 54) {g : ℕ} (hg : g < 2) {p : ℕ} (hp : p < 1280) (hin) (r : Fin 8) (d : Fin 128) :
    Δ.TB ((Rect.unit (s := S2x10x108x8x128) (oB kv.val (BitVec.ofNat 32 p) h g) S1x1x1x8x128.size hin).toLoadRect.idx (ix5 (0 : Fin 1) (0 : Fin 1) (0 : Fin 1) r d))
      = Δ.TB (ix5 kv (⟨p / 128, by omega⟩ : Fin 10) (⟨2 * h + g, head_lt hh hg⟩ : Fin 108) r d) := by
  have e := oB_eq kv.val (h := h) (g := g) hp
  congr 1
  funext a
  apply Fin.ext
  match a with
  | ⟨0, _⟩ =>
    have h1 : oB kv.val (BitVec.ofNat 32 p) h g 0 = kv.val := by rw [e]; rfl
    show oB kv.val (BitVec.ofNat 32 p) h g 0 + 1 * 0 = kv.val
    rw [h1]; omega
  | ⟨1, _⟩ =>
    have h1 : oB kv.val (BitVec.ofNat 32 p) h g 1 = p / 128 := by rw [e]; rfl
    show oB kv.val (BitVec.ofNat 32 p) h g 1 + 1 * 0 = p / 128
    rw [h1]; omega
  | ⟨2, _⟩ =>
    have h1 : oB kv.val (BitVec.ofNat 32 p) h g 2 = 2 * h + g := by rw [e]; rfl
    show oB kv.val (BitVec.ofNat 32 p) h g 2 + 1 * 0 = 2 * h + g
    rw [h1]; omega
  | ⟨3, _⟩ =>
    have h1 : oB kv.val (BitVec.ofNat 32 p) h g 3 = 0 := by rw [e]; rfl
    show oB kv.val (BitVec.ofNat 32 p) h g 3 + 1 * r.val = r.val
    rw [h1]; omega
  | ⟨4, _⟩ =>
    have h1 : oB kv.val (BitVec.ofNat 32 p) h g 4 = 0 := by rw [e]; rfl
    show oB kv.val (BitVec.ofNat 32 p) h g 4 + 1 * d.val = d.val
    rw [h1]; omega

theorem lt2048 {w j : ℕ} (hw : w < 128) (hj : j < 8) : (w % 16 * 8 + j) * 16 < 2048 := by omega

theorem wpp_deqHead {w : ℕ} (hw : w < 128) (hT) {h : ℕ} (hh : h < 54) (Q' : Unit → sProp 𝕄) :
    iprop(PGm M Δ kv (i % 2) w j c ∗ TBm M Δ c ∗ DQ M Δ kv (i % 2) w j (2 * h) c)
      ⊢ iprop((iprop(PGm M Δ kv (i % 2) w j c ∗ TBm M Δ c ∗ DQ M Δ kv (i % 2) w j (2 * (h + 1)) c) -∗ Q' ⟨⟩)
        -∗ wpp c (deqHead M kv hi hj (BitVec.ofNat 32 (Δ.pw w j)) (BitVec.ofNat 32 (clipLen (Δ.ln (w / 16)))) (BitVec.ofNat 32 ((w % 16 * 8 + j) * 16)) hT hh) Q') := by
  have hp := Δ.pw_lt w j
  have hs := lt2048 hw hj
  have hL := clipLen_le (Δ.ln (w / 16))
  iintro ⟨HP, HT, HD⟩ Hk
  unfold deqHead
  iapply (wpp_load (β := Unit) (I := pieceset kv (i % 2) j) (X := Δ.PGB kv w) (q := fullShare) (codes_in kv hi hj hh _)) $$ HP
  iintro HP
  iapply (wpp_load (β := Unit) (I := Finset.univ) (X := Δ.TB) (q := fullShare) (Finset.subset_univ _)) $$ HT
  iintro HT
  iapply (wpp_rows M Δ kv (w := w) (show i % 2 < 2 by omega) hj (show 2 * h + 0 < 108 by omega) (oD_eq kv.val hi hj) (by
    intro x0 x1 x2 r d
    rw [pay192_apply _ hp _ _ hL hs, CHB_at Δ kv hw hj hh (g := 0) (by decide), codes_at Δ kv hi hj hh (g := 0) (by decide), table_at Δ kv hh (g := 0) (by decide) hp]
    · exact if_congr Iff.rfl (congrArg (val _) (TB_at Δ kv hp _ r)) rfl
    all_goals exact 0)) $$ HD
  iintro HD
  iapply (wpp_load (β := Unit) (I := Finset.univ) (X := Δ.TB) (q := fullShare) (Finset.subset_univ _)) $$ HT
  iintro HT
  iapply (wpp_rows M Δ kv (w := w) (show i % 2 < 2 by omega) hj (show 2 * h + 1 < 108 by omega) (oD_eq kv.val hi hj) (by
    intro x0 x1 x2 r d
    rw [pay186_apply _ hp _ _ hL hs, CHB_at Δ kv hw hj hh (g := 1) (by decide), codes_at Δ kv hi hj hh (g := 1) (by decide), table_at Δ kv hh (g := 1) (by decide) hp]
    · exact if_congr Iff.rfl (congrArg (val _) (TB_at Δ kv hp _ r)) rfl
    all_goals exact 0)) $$ HD
  iintro HD
  iapply wpp_ret
  iapply Hk
  isplitl [HP]; · iexact HP
  isplitl [HT]; · iexact HT
  rw [show 2 * (h + 1) = 2 * h + 1 + 1 from by omega]
  iexact HD

theorem wpp_deqFrom {w : ℕ} (hw : w < 128) (hT) (m : ℕ) (hm : m ≤ 54) (Q' : Unit → sProp 𝕄) :
    iprop(PGm M Δ kv (i % 2) w j c ∗ TBm M Δ c ∗ DQ M Δ kv (i % 2) w j (2 * (54 - m)) c)
      ⊢ iprop((iprop(PGm M Δ kv (i % 2) w j c ∗ TBm M Δ c ∗ DQ M Δ kv (i % 2) w j 108 c) -∗ Q' ⟨⟩)
        -∗ wpp c (deqFrom M kv hi hj (BitVec.ofNat 32 (Δ.pw w j)) (BitVec.ofNat 32 (clipLen (Δ.ln (w / 16)))) (BitVec.ofNat 32 ((w % 16 * 8 + j) * 16)) hT m) Q') := by
  induction m with
  | zero =>
    iintro H Hk
    iapply wpp_ret
    iapply Hk
    iexact H
  | succ m ih =>
    rw [show 54 - (m + 1) = 53 - m from by omega]
    rw [show 54 - m = (53 - m) + 1 from by omega] at ih
    iintro H Hk
    iapply wpp_bind'
    iapply (wpp_deqHead M Δ kv hi hj hw hT (head_of m)) $$ H
    iintro H
    iapply (ih (by omega)) $$ H
    iexact Hk

theorem pgv_ofNat (w j : ℕ) : Δ.pgv (w / 16) (w % 16 * 8 + j) = BitVec.ofNat 32 (Δ.pw w j) := by
  rw [← Δ.pgv_pw]
  exact (BitVec.ofNat_toNat 32 (Δ.pgv (w / 16) (w % 16 * 8 + j))).trans (BitVec.setWidth_eq _) |>.symm

theorem wpp_page' {w : ℕ} (hw : w < 128) (hj : j < 8) {i5} {k : BitVec 32 → Prog (TpuEff nD τ sig (Elt Bits) Λ₀ .tc) α} :
    PTm M Δ c ⊢ iprop((PTm M Δ c -∗ wpp c (k (BitVec.ofNat 32 (Δ.pw w j))) Q) -∗ wpp c (smemLoad M.pt (Rect.unit (s := S8x128) (oP (BitVec.ofNat 32 w) j) S1x1.size i5) numel1_S1x1 rfl >>= k) Q) := by
  rw [← pgv_ofNat]
  exact wpp_page M Δ (o_pt hw hj) (by omega) (by omega)

theorem s_eq {w : ℕ} (hw : w < 128) : Scalar.muli (Scalar.addi (Scalar.muli (fmod16 (BitVec.ofNat 32 w)) 8#32) (Scf.iv 0#32 1#32 j)) 16#32 = BitVec.ofNat 32 ((w % 16 * 8 + j) * 16) := by
  rw [fmod16_eq hw, iv01, mulN, addN, mulN]

theorem wpp_deqPage {w : ℕ} (hw : w < 128) {P : BitVec 32 → Prop} {dec : ∀ v, Decidable (P v)} {i5 i1} (hT) (hP : ∀ p, p < 1280 → P (BitVec.ofNat 32 p)) (Q' : Unit → sProp 𝕄) :
    iprop((PTm M Δ c ∗ LNm M Δ c) ∗ PGm M Δ kv (i % 2) w j c ∗ TBm M Δ c ∗ DQ M Δ kv (i % 2) w j 0 c)
      ⊢ iprop((iprop((PTm M Δ c ∗ LNm M Δ c) ∗ PGm M Δ kv (i % 2) w j c ∗ TBm M Δ c ∗ DQ M Δ kv (i % 2) w (j + 1) 0 c) -∗ Q' ⟨⟩)
        -∗ wpp c (deqPage M kv hi hj (BitVec.ofNat 32 w) (P := P) dec i5 i1 hT) Q') := by
  iintro ⟨⟨HPT, HLN⟩, HD⟩ Hk
  unfold deqPage
  iapply (wpp_page' M Δ hw hj) $$ HPT
  iintro HPT
  iapply (wpp_assume (hP _ (Δ.pw_lt w j)))
  iapply (wpp_len M Δ (o_b hw) (by omega)) $$ HLN
  iintro HLN
  rw [s_eq hw, clip_eq]
  iapply (wpp_deqFrom M Δ kv hi hj hw _ 54 (Nat.le_refl _)) $$ HD
  iintro ⟨HP, HT, HD⟩
  iapply Hk
  isplitl [HPT HLN]
  · isplitl [HPT]; · iexact HPT
    iexact HLN
  isplitl [HP]; · iexact HP
  isplitl [HT]; · iexact HT
  iapply (DQ_next M Δ kv (i % 2) w j)
  iexact HD
end

/-- The dequantisation loop of a chunk. -/
theorem wpp_deq (kv : Fin 2) {i w : ℕ} {l : Scf.Loop 32} {hok} {body : Fin l.trips → Unit → Prog (TpuEff nD τ sig (Elt Bits) Λ₀ .tc) Unit}
    (hl : l.trips = Δ.np w) (hbody : ∀ (t : Fin l.trips) (ht : t.val < Δ.np w) (Q' : Unit → sProp 𝕄),
      iprop((PTm M Δ c ∗ LNm M Δ c) ∗ PGm M Δ kv (i % 2) w t.val c ∗ TBm M Δ c ∗ DQ M Δ kv (i % 2) w t.val 0 c)
      ⊢ iprop((iprop((PTm M Δ c ∗ LNm M Δ c) ∗ PGm M Δ kv (i % 2) w t.val c ∗ TBm M Δ c ∗ DQ M Δ kv (i % 2) w (t.val + 1) 0 c) -∗ Q' ⟨⟩)
        -∗ wpp c (body t ⟨⟩) Q')) {kk : Unit → Prog (TpuEff nD τ sig (Elt Bits) Λ₀ .tc) α} :
    iprop((PTm M Δ c ∗ LNm M Δ c) ∗ TBm M Δ c ∗ RR M Δ kv (i % 2) w c ∗ DQ M Δ kv (i % 2) w 0 0 c)
      ⊢ iprop((iprop((PTm M Δ c ∗ LNm M Δ c) ∗ TBm M Δ c ∗ RR M Δ kv (i % 2) w c ∗ DQ M Δ kv (i % 2) w (Δ.np w) 0 c) -∗ wpp c (kk ⟨⟩) Q)
        -∗ wpp c (Scf.Loop.for l hok ⟨⟩ body >>= kk) Q) := by
  iintro H Hk
  iapply (wpp_for (c := c) (Q := Q) (kk := kk) (l := l) (hok := hok) (body := body) (init := ⟨⟩)
    (fun k _ => iprop((PTm M Δ c ∗ LNm M Δ c) ∗ TBm M Δ c ∗ RR M Δ kv (i % 2) w c ∗ DQ M Δ kv (i % 2) w k 0 c)) (by
      intro t _
      have ht : t.val < Δ.np w := hl ▸ t.isLt
      unfold RR
      have he : bigSep (Finset.range (Δ.np w)) (Full M Δ kv (i % 2) w c) = iprop(Full M Δ kv (i % 2) w c t.val ∗ bigSep ((Finset.range (Δ.np w)).erase t.val) (Full M Δ kv (i % 2) w c)) :=
        bigSep_erase (Finset.mem_range.2 ht)
      rw [he]
      have hf : Full M Δ kv (i % 2) w c t.val = iprop(mpt c (M.pool kv) Finset.univ (qq (i % 2) t.val) (Δ.P kv) ∗ PGm M Δ kv (i % 2) w t.val c) := rfl
      rw [hf]
      iintro ⟨HL, HT, ⟨⟨⟨Hp, Hg⟩, Hr⟩, HR⟩, HD⟩
      iapply (hbody t ht _) $$ [HL HT Hg HD]
      · isplitl [HL]; · iexact HL
        isplitl [Hg]; · iexact Hg
        isplitl [HT]; · iexact HT
        iexact HD
      iintro ⟨HL, Hg, HT, HD⟩
      isplitl [HL]; · iexact HL
      isplitl [HT]; · iexact HT
      isplitr [HD]
      · isplitr [HR]
        · isplitr [Hr]
          · isplitl [Hp]; · iexact Hp
            iexact Hg
          iexact Hr
        iexact HR
      iexact HD)) $$ H
  iintro %_ H
  iapply Hk
  rw [hl]
  iexact H

/-! ## The blank rows' program -/

def oE (kv i : ℕ) (vw l : BitVec 32) (t hd : ℕ) : Fin 5 → ℕ := ![kv, (Scalar.indexCast (Scalar.remsi (Scf.iv 0#32 1#32 i) 2#32)).toNat, hd,
  (Scalar.indexCast (Scalar.muli (Scf.iv (wpg vw l) 1#32 t) 16#32)).toNat, 0]

section
variable (kv : Fin 2) {i t w : ℕ} {l : BitVec 32} (hw : w < 128) (hi : i < 256) (hj : npg w l + t < 8)

theorem oE_eq (hd : ℕ) (hw : w < 128) (hi : i < 256) (hj : npg w l + t < 8) : oE kv.val i (BitVec.ofNat 32 w) l t hd = ![kv.val, i % 2, hd, (npg w l + t) * 16, 0] :=
  o_blank kv.val hd hw hi (by omega)
theorem oE_in {hd : ℕ} (hw : w < 128) (hi : i < 256) (hj : npg w l + t < 8) (hh : hd < 108) :
    ∀ a, oE kv.val i (BitVec.ofNat 32 w) l t hd a + S1x1x1x16x128.size a ≤ S2x2x108x128x128.size a := by
  rw [oE_eq kv hd hw hi hj]; exact in_dst kv.isLt (by omega) hh (by omega)
theorem blank_of (m : ℕ) : 107 - m < 108 := by omega

/-- One head's blank rows. -/
def blankHead {hd : ℕ} (hh : hd < 108) : Prog (TpuEff nD τ sig (Elt Bits) Λ₀ .tc) Unit := do
  let _ : Vec Bits S1x1x1x16x128 .bf16 ← Prog.lift (.load M.chunks (Rect.unit (s := S2x2x108x128x128) (oE kv.val i (BitVec.ofNat 32 w) l t hd) S1x1x1x16x128.size (oE_in kv hw hi hj hh)).toLoadRect (View.loadsAt_vmem h_S1x1x1x16x128))
  Prog.lift (.store M.chunks (Rect.unit (s := S2x2x108x128x128) (oE kv.val i (BitVec.ofNat 32 w) l t hd) S1x1x1x16x128.size (oE_in kv hw hi hj hh)) (k0_pay1527 (F := Bits)) Finset.univ
    (View.stores_vmem h_S1x1x1x16x128 (M.hchunks.storeExact_slice rfl _ (pk_dst (oE_eq kv hd hw hi hj) _)) (fun _ => rfl)) (.inl rfl))
  pure ⟨⟩

/-- The last heads' blank rows. -/
def blankFrom (m : ℕ) : Prog (TpuEff nD τ sig (Elt Bits) Λ₀ .tc) Unit :=
  Nat.rec (pure ⟨⟩) (fun m rest => blankHead M kv hw hi hj (blank_of m) >>= fun _ => rest) m
end

section
variable (kv : Fin 2) {i t w : ℕ} (hw : w < 128) (hi : i < 256) (hj : npg w (Δ.ln (w / 16)) + t < 8)

theorem wpp_blankHead {hd : ℕ} (hh : hd < 108) (Q' : Unit → sProp 𝕄) :
    DQ M Δ kv (i % 2) w (npg w (Δ.ln (w / 16)) + t) hd c
      ⊢ iprop((DQ M Δ kv (i % 2) w (npg w (Δ.ln (w / 16)) + t) (hd + 1) c -∗ Q' ⟨⟩) -∗ wpp c (blankHead M kv hw hi hj hh) Q') := by
  iintro H Hk
  unfold blankHead
  iapply (wpp_rows M Δ kv (w := w) (show i % 2 < 2 by omega) hj hh (oE_eq kv hd hw hi hj) (fun x0 x1 x2 r d => (CHB_blank Δ kv hw hj (Nat.le_add_right _ _) _ _ r d).symm)) $$ H
  iintro H
  iapply wpp_ret
  iapply Hk
  iexact H

theorem wpp_blankFrom' (m : ℕ) (hm : m ≤ 108) (Q' : Unit → sProp 𝕄) :
    DQ M Δ kv (i % 2) w (npg w (Δ.ln (w / 16)) + t) (108 - m) c
      ⊢ iprop((DQ M Δ kv (i % 2) w (npg w (Δ.ln (w / 16)) + t) 108 c -∗ Q' ⟨⟩) -∗ wpp c (blankFrom M kv hw hi hj m) Q') := by
  induction m with
  | zero =>
    iintro H Hk
    iapply wpp_ret
    iapply Hk
    iexact H
  | succ m ih =>
    rw [show 108 - (m + 1) = 107 - m from by omega]
    rw [show 108 - m = (107 - m) + 1 from by omega] at ih
    iintro H Hk
    iapply wpp_bind'
    iapply (wpp_blankHead M Δ kv hw hi hj (blank_of m)) $$ H
    iintro H
    iapply (ih (by omega)) $$ H
    iexact Hk

theorem wpp_blankFrom (Q' : Unit → sProp 𝕄) :
    DQ M Δ kv (i % 2) w (npg w (Δ.ln (w / 16)) + t) 0 c
      ⊢ iprop((DQ M Δ kv (i % 2) w (npg w (Δ.ln (w / 16)) + t + 1) 0 c -∗ Q' ⟨⟩) -∗ wpp c (blankFrom M kv hw hi hj 108) Q') := by
  iintro H Hk
  iapply (wpp_blankFrom' M Δ kv hw hi hj 108 (Nat.le_refl _)) $$ H
  iintro H
  iapply Hk
  iapply (DQ_next M Δ kv (i % 2) w _)
  iexact H
end

/-! ## The region's loops -/

section
variable {w : ℕ} (hw : w < 128) {n : ℕ} (hn : n ≤ 128) (h19 : k0_chk19 (BitVec.ofNat 32 n)) (i : Fin (k0_t34_loop (BitVec.ofNat 32 n)).trips)
include hw hn

theorem t37_body (a18 y z q : BitVec 32) (h21 : k0_chk21 (BitVec.ofNat 32 n) i (BitVec.ofNat 32 w) (Δ.ln (w / 16)))
    (t : Fin (k0_t37_loop (BitVec.ofNat 32 w) (Δ.ln (w / 16))).trips) (ht : t.val < Δ.np w) (Q' : Unit → sProp 𝕄) :
    iprop((PTm M Δ c ∗ LNm M Δ c) ∗ PGm M Δ 0 (i.val % 2) w t.val c ∗ TBm M Δ c ∗ DQ M Δ 0 (i.val % 2) w t.val 0 c)
      ⊢ iprop((iprop((PTm M Δ c ∗ LNm M Δ c) ∗ PGm M Δ 0 (i.val % 2) w t.val c ∗ TBm M Δ c ∗ DQ M Δ 0 (i.val % 2) w (t.val + 1) 0 c) -∗ Q' ⟨⟩)
        -∗ wpp c (k0_t37_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem (BitVec.ofNat 32 n) h19 i a18 y (BitVec.ofNat 32 w) z (fmod16 (BitVec.ofNat 32 w)) (Δ.ln (w / 16)) h21 q t ⟨⟩) Q') := by
  have hi : i.val < 128 := lt_of_lt_of_le (it_lt hn i) hn
  have hj : t.val < 8 := lt_of_lt_of_le ht (Δ.np_le w)
  have e : k0_t37_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem (BitVec.ofNat 32 n) h19 i a18 y (BitVec.ofNat 32 w) z (fmod16 (BitVec.ofNat 32 w)) (Δ.ln (w / 16)) h21 q t ⟨⟩
      = deqPage M 0 hi hj (BitVec.ofNat 32 w) (P := k0_chk22) (fun v => k0_chk22.dec v) (k0_off404_inb (BitVec.ofNat 32 n) i (BitVec.ofNat 32 w) (Δ.ln (w / 16)) h21 t)
          (k0_off405_inb (BitVec.ofNat 32 n) i (BitVec.ofNat 32 w) (Δ.ln (w / 16)) h21 t) (fun v hv h hh g => oB_in (by decide) (hv.1.1 1) hh g.isLt) := rfl
  rw [e]
  exact wpp_deqPage M Δ 0 hi hj hw _ (fun p hp => chk22_holds hp) Q'

theorem t45_body (a18 y z q : BitVec 32) (h20 : k0_chk20 (BitVec.ofNat 32 w)) (h21 : k0_chk21 (BitVec.ofNat 32 n) i (BitVec.ofNat 32 w) (Δ.ln (w / 16)))
    (t : Fin (k0_t45_loop (BitVec.ofNat 32 w) (Δ.ln (w / 16))).trips) (ht : t.val < Δ.np w) (Q' : Unit → sProp 𝕄) :
    iprop((PTm M Δ c ∗ LNm M Δ c) ∗ PGm M Δ 1 (i.val % 2) w t.val c ∗ TBm M Δ c ∗ DQ M Δ 1 (i.val % 2) w t.val 0 c)
      ⊢ iprop((iprop((PTm M Δ c ∗ LNm M Δ c) ∗ PGm M Δ 1 (i.val % 2) w t.val c ∗ TBm M Δ c ∗ DQ M Δ 1 (i.val % 2) w (t.val + 1) 0 c) -∗ Q' ⟨⟩)
        -∗ wpp c (k0_t45_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem (BitVec.ofNat 32 n) h19 i a18 y (BitVec.ofNat 32 w) h20 z (fmod16 (BitVec.ofNat 32 w)) (Δ.ln (w / 16)) h21 q t ⟨⟩) Q') := by
  have hi : i.val < 128 := lt_of_lt_of_le (it_lt hn i) hn
  have hj : t.val < 8 := lt_of_lt_of_le ht (Δ.np_le w)
  have e : k0_t45_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem (BitVec.ofNat 32 n) h19 i a18 y (BitVec.ofNat 32 w) h20 z (fmod16 (BitVec.ofNat 32 w)) (Δ.ln (w / 16)) h21 q t ⟨⟩
      = deqPage M 1 hi hj (BitVec.ofNat 32 w) (P := k0_chk28) (fun v => k0_chk28.dec v) (k0_off404_inb (BitVec.ofNat 32 n) i (BitVec.ofNat 32 w) (Δ.ln (w / 16)) h21 t)
          (k0_off405_inb (BitVec.ofNat 32 n) i (BitVec.ofNat 32 w) (Δ.ln (w / 16)) h21 t) (fun v hv h hh g => oB_in (by decide) (hv.1.1 1) hh g.isLt) := rfl
  rw [e]
  exact wpp_deqPage M Δ 1 hi hj hw _ (fun p hp => chk28_holds hp) Q'

theorem bl8 {t : ℕ} (ht : t < 8 - Δ.np w) : Δ.np w + t < 8 := by omega

theorem t39_body (a18 y z u r q : BitVec 32) (h21 : k0_chk21 (BitVec.ofNat 32 n) i (BitVec.ofNat 32 w) (Δ.ln (w / 16)))
    (t : Fin (k0_t39_loop (BitVec.ofNat 32 w) (Δ.ln (w / 16))).trips) (ht : t.val < 8 - Δ.np w) (Q' : Unit → sProp 𝕄) :
    DQ M Δ 0 (i.val % 2) w (Δ.np w + t.val) 0 c
      ⊢ iprop((DQ M Δ 0 (i.val % 2) w (Δ.np w + t.val + 1) 0 c -∗ Q' ⟨⟩)
        -∗ wpp c (k0_t39_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem (BitVec.ofNat 32 n) h19 i a18 y (BitVec.ofNat 32 w) z u (Δ.ln (w / 16)) h21 r q t ⟨⟩) Q') := by
  have hi : i.val < 256 := by have := lt_of_lt_of_le (it_lt hn i) hn; omega
  have hj := bl8 Δ hw hn ht
  have e : k0_t39_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem (BitVec.ofNat 32 n) h19 i a18 y (BitVec.ofNat 32 w) z u (Δ.ln (w / 16)) h21 r q t ⟨⟩
      = blankFrom M 0 hw hi hj 108 := rfl
  rw [e]
  exact wpp_blankFrom M Δ 0 hw hi hj Q'

theorem t47_body (a18 y z u q : BitVec 32) (h20 : k0_chk20 (BitVec.ofNat 32 w)) (h21 : k0_chk21 (BitVec.ofNat 32 n) i (BitVec.ofNat 32 w) (Δ.ln (w / 16)))
    (t : Fin (k0_t47_loop (BitVec.ofNat 32 w) (Δ.ln (w / 16))).trips) (ht : t.val < 8 - Δ.np w) (Q' : Unit → sProp 𝕄) :
    DQ M Δ 1 (i.val % 2) w (Δ.np w + t.val) 0 c
      ⊢ iprop((DQ M Δ 1 (i.val % 2) w (Δ.np w + t.val + 1) 0 c -∗ Q' ⟨⟩)
        -∗ wpp c (k0_t47_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem (BitVec.ofNat 32 n) h19 i a18 y (BitVec.ofNat 32 w) h20 z u (Δ.ln (w / 16)) h21 q t ⟨⟩) Q') := by
  have hi : i.val < 256 := by have := lt_of_lt_of_le (it_lt hn i) hn; omega
  have hj := bl8 Δ hw hn ht
  have e : k0_t47_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem (BitVec.ofNat 32 n) h19 i a18 y (BitVec.ofNat 32 w) h20 z u (Δ.ln (w / 16)) h21 q t ⟨⟩
      = blankFrom M 1 hw hi hj 108 := rfl
  rw [e]
  exact wpp_blankFrom M Δ 1 hw hi hj Q'

end

/-- The blank rows of a chunk. -/
theorem wpp_blank (kv : Fin 2) {σ w : ℕ} {l : Scf.Loop 32} {hok} {body : Fin l.trips → Unit → Prog (TpuEff nD τ sig (Elt Bits) Λ₀ .tc) Unit}
    (hl : l.trips = 8 - Δ.np w) (hbody : ∀ (t : Fin l.trips) (ht : t.val < 8 - Δ.np w) (Q' : Unit → sProp 𝕄),
      DQ M Δ kv σ w (Δ.np w + t.val) 0 c ⊢ iprop((DQ M Δ kv σ w (Δ.np w + t.val + 1) 0 c -∗ Q' ⟨⟩) -∗ wpp c (body t ⟨⟩) Q')) {kk : Unit → Prog (TpuEff nD τ sig (Elt Bits) Λ₀ .tc) α} :
    DQ M Δ kv σ w (Δ.np w) 0 c
      ⊢ iprop((mpt c M.chunks (chset kv σ) fullShare (Δ.CHB kv w) -∗ wpp c (kk ⟨⟩) Q)
        -∗ wpp c (Scf.Loop.for l hok ⟨⟩ body >>= kk) Q) := by
  have hn := Δ.np_le w
  iintro H Hk
  iapply (wpp_for (c := c) (Q := Q) (kk := kk) (l := l) (hok := hok) (body := body) (init := ⟨⟩)
    (fun k _ => DQ M Δ kv σ w (Δ.np w + k) 0 c) (by
      intro t _
      have ht : t.val < 8 - Δ.np w := hl ▸ t.isLt
      iintro H
      iapply (hbody t ht _) $$ H
      iintro H
      iexact H)) $$ H
  iintro %_ H
  iapply Hk
  iapply (DQ_all M Δ kv σ w)
  rw [hl, show Δ.np w + (8 - Δ.np w) = 8 from by omega]
  iexact H

end Cert.Proof.K
-- ==== Proof.Work.lean ====
/- The work list: the live windows in order, and the others. -/
module

public import proofs.«01_k».proof.Proof.Reads
public import Mathlib.Data.Nat.Count

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

local notation "V" => Elt Bits
local notation "𝕄" => MT nD τ sig Unit (Elt Bits) ℕ (Pipeline.UD sig nD τ) ℕ

/-! ## Counting -/

section
variable (p : ℕ → Prop) [DecidablePred p]

theorem count_seg (a lo n : ℕ) (h : ∀ t, t < 16 → (p (a + t) ↔ lo ≤ t ∧ t < lo + n)) : ∀ m, m ≤ 16 → Nat.count p (a + m) = Nat.count p a + min (m - lo) n := by
  intro m
  induction m with
  | zero => intro _; simp
  | succ m ih =>
    intro hm
    rw [show a + (m + 1) = a + m + 1 from rfl, Nat.count_succ, ih (by omega)]
    by_cases hp : p (a + m)
    · have := (h m (by omega)).1 hp
      rw [if_pos hp]; omega
    · have := mt (h m (by omega)).2 hp
      rw [if_neg hp]; omega

theorem count_ex : ∀ m i, i < Nat.count p m → ∃ w, w < m ∧ p w ∧ Nat.count p w = i := by
  intro m
  induction m with
  | zero => intro i hi; simp at hi
  | succ m ih =>
    intro i hi
    rw [Nat.count_succ] at hi
    by_cases h : i < Nat.count p m
    · obtain ⟨w, hw, h1, h2⟩ := ih i h
      exact ⟨w, by omega, h1, h2⟩
    · by_cases hp : p m
      · rw [if_pos hp] at hi
        exact ⟨m, by omega, hp, by omega⟩
      · rw [if_neg hp] at hi; omega

/-- The `i`-th number below 128 that the predicate holds of. -/
def nth128 (i : ℕ) : ℕ := Nat.findGreatest (fun w => Nat.count p w ≤ i) 127
theorem nth_count {w : ℕ} (hw : w < 128) (h : p w) : nth128 p (Nat.count p w) = w := by
  unfold nth128
  refine le_antisymm ?_ (Nat.le_findGreatest (by omega) le_rfl)
  by_contra hlt
  have h1 := Nat.findGreatest_spec (P := fun v => Nat.count p v ≤ Nat.count p w) (m := w) (n := 127) (by omega) le_rfl
  have h2 : Nat.count p (w + 1) ≤ Nat.count p (Nat.findGreatest (fun v => Nat.count p v ≤ Nat.count p w) 127) := Nat.count_monotone p (by omega)
  rw [Nat.count_succ, if_pos h] at h2
  omega

theorem nth_ok {m i : ℕ} (hm : m ≤ 128) (h : i < Nat.count p m) : nth128 p i < m ∧ p (nth128 p i) ∧ Nat.count p (nth128 p i) = i := by
  obtain ⟨w, hw, h1, h2⟩ := count_ex p m i h
  have : nth128 p i = w := by rw [← h2, nth_count p (by omega) h1]
  rw [this]
  exact ⟨hw, h1, h2⟩

/-- The numbers a predicate holds of below `m`, as the image of their places. -/
theorem nth_image {m : ℕ} (hm : m ≤ 128) : (Finset.range m).filter p = (Finset.range (Nat.count p m)).image (nth128 p) := by
  ext w
  rw [Finset.mem_filter, Finset.mem_image]
  constructor
  · rintro ⟨h1, h2⟩
    exact ⟨Nat.count p w, Finset.mem_range.2 (Nat.count_strict_mono h2 (Finset.mem_range.1 h1)), nth_count p (by have := Finset.mem_range.1 h1; omega) h2⟩
  · rintro ⟨i, hi, rfl⟩
    have := nth_ok p hm (Finset.mem_range.1 hi)
    exact ⟨Finset.mem_range.2 this.1, this.2.1⟩

theorem nth_inj {m : ℕ} (hm : m ≤ 128) : Set.InjOn (nth128 p) (Finset.range (Nat.count p m) : Finset ℕ) := by
  intro i hi j hj h
  have h1 := (nth_ok p hm (Finset.mem_range.1 hi)).2.2
  have h2 := (nth_ok p hm (Finset.mem_range.1 hj)).2.2
  rw [← h1, ← h2, h]
end

variable (Δ : Data)

/-- Window `w` holds a live position. -/
abbrev Data.live (w : ℕ) : Prop := w < 128 ∧ w % 16 < nwin (Δ.ln (w / 16))
/-- Window `w` holds none. -/
abbrev Data.dead (w : ℕ) : Prop := w < 128 ∧ ¬ w % 16 < nwin (Δ.ln (w / 16))
/-- Item `i`'s window. -/
def Data.WK (i : ℕ) : ℕ := nth128 Δ.live i
/-- The `i`-th window without a live position. -/
def Data.DK (i : ℕ) : ℕ := nth128 Δ.dead i
/-- The items before row `b`. -/
def Data.cur (b : ℕ) : ℕ := Nat.count Δ.live (16 * b)
/-- The windows without a live position before row `b`. -/
def Data.dcur (b : ℕ) : ℕ := Nat.count Δ.dead (16 * b)
/-- The items. -/
def Data.n : ℕ := Nat.count Δ.live 128

theorem cur_zero : Δ.cur 0 = 0 := Nat.count_zero _
theorem dcur_zero : Δ.dcur 0 = 0 := Nat.count_zero _
theorem cur_top : Δ.cur 8 = Δ.n := rfl
theorem n_le : Δ.n ≤ 128 := Nat.count_le _

theorem live_iff {b : ℕ} (hb : b < 8) (t : ℕ) (ht : t < 16) : Δ.live (16 * b + t) ↔ 0 ≤ t ∧ t < 0 + nwin (Δ.ln b) := by
  have h1 : (16 * b + t) / 16 = b := by omega
  have h2 : (16 * b + t) % 16 = t := by omega
  unfold Data.live
  rw [h1, h2]; omega
theorem dead_iff {b : ℕ} (hb : b < 8) (t : ℕ) (ht : t < 16) : Δ.dead (16 * b + t) ↔ nwin (Δ.ln b) ≤ t ∧ t < nwin (Δ.ln b) + (16 - nwin (Δ.ln b)) := by
  have h1 : (16 * b + t) / 16 = b := by omega
  have h2 : (16 * b + t) % 16 = t := by omega
  unfold Data.dead
  rw [h1, h2]; omega

theorem cur_add {b : ℕ} (hb : b < 8) {t : ℕ} (ht : t ≤ nwin (Δ.ln b)) : Nat.count Δ.live (16 * b + t) = Δ.cur b + t := by
  have hn := nwin_le (Δ.ln b)
  rw [count_seg _ _ _ _ (live_iff Δ hb) t (by omega), Data.cur]; omega
theorem cur_succ {b : ℕ} (hb : b < 8) : Δ.cur (b + 1) = Δ.cur b + nwin (Δ.ln b) := by
  have hn := nwin_le (Δ.ln b)
  have := count_seg _ _ _ _ (live_iff Δ hb) 16 le_rfl
  unfold Data.cur
  rw [show 16 * (b + 1) = 16 * b + 16 by omega, this]; omega
theorem dcur_add {b : ℕ} (hb : b < 8) {t : ℕ} (ht : t ≤ 16 - nwin (Δ.ln b)) : Nat.count Δ.dead (16 * b + (nwin (Δ.ln b) + t)) = Δ.dcur b + t := by
  have hn := nwin_le (Δ.ln b)
  rw [count_seg _ _ _ _ (dead_iff Δ hb) _ (by omega), Data.dcur]; omega
theorem dcur_succ {b : ℕ} (hb : b < 8) : Δ.dcur (b + 1) = Δ.dcur b + (16 - nwin (Δ.ln b)) := by
  have hn := nwin_le (Δ.ln b)
  have := count_seg _ _ _ _ (dead_iff Δ hb) 16 le_rfl
  unfold Data.dcur
  rw [show 16 * (b + 1) = 16 * b + 16 by omega, this]; omega

theorem WK_at {b : ℕ} (hb : b < 8) {t : ℕ} (ht : t < nwin (Δ.ln b)) : Δ.WK (Δ.cur b + t) = 16 * b + t := by
  have hn := nwin_le (Δ.ln b)
  rw [← cur_add Δ hb ht.le]
  exact nth_count Δ.live (by omega) ((live_iff Δ hb t (by omega)).2 (by omega))
theorem DK_at {b : ℕ} (hb : b < 8) {t : ℕ} (ht : t < 16 - nwin (Δ.ln b)) : Δ.DK (Δ.dcur b + t) = 16 * b + (nwin (Δ.ln b) + t) := by
  have hn := nwin_le (Δ.ln b)
  rw [← dcur_add Δ hb ht.le]
  exact nth_count Δ.dead (by omega) ((dead_iff Δ hb _ (by omega)).2 (by omega))

theorem count_both : ∀ m, m ≤ 128 → Nat.count Δ.live m + Nat.count Δ.dead m = m := by
  intro m
  induction m with
  | zero => intro _; simp
  | succ m ih =>
    intro hm
    have := ih (by omega)
    rw [Nat.count_succ, Nat.count_succ]
    by_cases h : m % 16 < nwin (Δ.ln (m / 16))
    · rw [if_pos ⟨by omega, h⟩, if_neg (fun h' => h'.2 h)]; omega
    · rw [if_neg (fun h' => h h'.2), if_pos ⟨by omega, h⟩]; omega
theorem dcur_top : Δ.dcur 8 = 128 - Δ.n := by
  have := count_both Δ 128 le_rfl
  show Nat.count Δ.dead 128 = 128 - Nat.count Δ.live 128
  omega
theorem cur_le {b : ℕ} (hb : b < 8) : Δ.cur b + nwin (Δ.ln b) ≤ Δ.n := by
  rw [← cur_succ Δ hb]
  exact Nat.count_monotone _ (by omega)
theorem dcur_le {b : ℕ} (hb : b < 8) : Δ.dcur b + (16 - nwin (Δ.ln b)) ≤ 128 - Δ.n := by
  rw [← dcur_succ Δ hb, ← dcur_top]
  exact Nat.count_monotone _ (by omega)

theorem WK_ok {i : ℕ} (h : i < Δ.n) : Δ.live (Δ.WK i) := (nth_ok Δ.live (m := 128) le_rfl h).2.1
theorem WK_lt {i : ℕ} (h : i < Δ.n) : Δ.WK i < 128 := (WK_ok Δ h).1
theorem DK_ok {i : ℕ} (h : i < 128 - Δ.n) : Δ.dead (Δ.DK i) := (nth_ok (m := 128) Δ.dead le_rfl (by rw [← dcur_top] at h; exact h)).2.1

/-- A product over all windows: the items' and the others'. -/
theorem windows_split (Φ : ℕ → sProp 𝕄) :
    bigSep (Finset.range 128) Φ = iprop(bigSep (Finset.range Δ.n) (fun i => Φ (Δ.WK i)) ∗ bigSep (Finset.range (128 - Δ.n)) (fun i => Φ (Δ.DK i))) := by
  have h1 : Finset.range 128 = (Finset.range 128).filter Δ.live ∪ (Finset.range 128).filter Δ.dead := by
    ext w
    simp only [Finset.mem_union, Finset.mem_filter, Finset.mem_range, Data.live, Data.dead]
    omega
  have hd : Disjoint ((Finset.range 128).filter Δ.live) ((Finset.range 128).filter Δ.dead) := by
    rw [Finset.disjoint_left]
    intro w hw hw'
    exact (Finset.mem_filter.1 hw').2.2 (Finset.mem_filter.1 hw).2.2
  have h3 : Nat.count Δ.dead 128 = 128 - Δ.n := dcur_top Δ
  rw [h1, bigSep_union hd, nth_image Δ.live le_rfl, nth_image Δ.dead le_rfl, bigSep_image_of_injOn (nth_inj Δ.live le_rfl), bigSep_image_of_injOn (nth_inj Δ.dead le_rfl), h3]
  rfl

end Cert.Proof.K
-- ==== Proof.Lists.lean ====
/- The loop that writes the work list, and the zeros' loops. -/
module

public import proofs.«01_k».proof.Proof.Work
public import proofs.«01_k».proof.Proof.Tables
public import proofs.«01_k».proof.Proof.Holds

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

local notation "V" => Elt Bits
local notation "𝕄" => MT nD τ sig Unit (Elt Bits) ℕ (Pipeline.UD sig nD τ) ℕ

variable (M : Mems) (Δ : Data) {c : Dev nD} {α : Type} {Q : α → sProp 𝕄}

/-! ## The work list -/

/-- The list with its first items written. -/
def WL (N : ℕ) (c : Dev nD) : sProp 𝕄 :=
  iprop(∃ X, mpt c M.work Finset.univ fullShare X ∗ ⌜∀ i : S128.Idx, (i 0).val < N → X i = BitVec.ofNat 32 (Δ.WK (i 0).val)⌝)

theorem t2_body {b : ℕ} (hb : b < 8) (hk : k0_chk1 (BitVec.ofNat 32 (Δ.cur b)) (Δ.ln b)) (t : Fin (k0_t2_loop (Δ.ln b)).trips) (ht : t.val < nwin (Δ.ln b)) (Q' : Unit → sProp 𝕄) :
    WL M Δ (Δ.cur b + t.val) c
      ⊢ iprop((WL M Δ (Δ.cur b + (t.val + 1)) c -∗ Q' ⟨⟩)
        -∗ wpp c (k0_t2_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem (BitVec.ofNat 32 (Δ.cur b)) (Scf.iv 0#32 1#32 b) (Δ.ln b) hk t ⟨⟩) Q') := by
  have hle := cur_le Δ hb
  have hn := n_le Δ
  have ho : k0_off2 (BitVec.ofNat 32 (Δ.cur b)) (Δ.ln b) t = ![Δ.cur b + t.val] :=
    congrArg (fun z => ![z]) ((congrArg BitVec.toNat ((congrArg (Scalar.addi _) (iv01 t.val)).trans (addN (Δ.cur b) t.val))).trans (toNat_ofNat32 (by omega)))
  have hval : Scalar.addi (Scalar.muli (Scf.iv 0#32 1#32 b) 16#32) (Scf.iv 0#32 1#32 t.val) = BitVec.ofNat 32 (Δ.WK (Δ.cur b + t.val)) := by
    rw [WK_at Δ hb ht, iv01, iv01]
    refine (congrArg (fun z => Scalar.addi z _) (mulN b 16)).trans ?_
    rw [addN, Nat.mul_comm]
  have hmem : ∀ i : S128.Idx, i ∈ (Rect.unit (s := S128) (k0_off2 (BitVec.ofNat 32 (Δ.cur b)) (Δ.ln b) t) S1.size (k0_off2_inb (BitVec.ofNat 32 (Δ.cur b)) (Δ.ln b) hk t)).set ↔ (i 0).val = Δ.cur b + t.val := by
    intro i
    rw [Rect.mem_set_unit, ho]
    constructor
    · intro h
      have h0 : Δ.cur b + t.val ≤ (i 0).val ∧ (i 0).val < Δ.cur b + t.val + 1 := h 0
      omega
    · intro h a
      match a with
      | ⟨0, _⟩ => show Δ.cur b + t.val ≤ (i 0).val ∧ (i 0).val < Δ.cur b + t.val + 1; omega
  unfold WL
  iintro ⟨%X, H, %hX⟩ Hk
  unfold k0_t2_body
  iapply (wpp_word (c := c) M ho (by omega)) $$ H
  iintro H
  iapply (wpp_store (I := Finset.univ) (X := X) (Y := fun i => if (i 0).val = Δ.cur b + t.val then BitVec.ofNat 32 (Δ.WK (i 0).val) else X i) (Finset.subset_univ _) (by
    intro x
    have h1 := (hmem _).1 (Rect.map_emb_univ _ ▸ Finset.mem_map_of_mem _ (Finset.mem_univ x))
    rw [if_pos h1, h1]
    exact hval.symm) (by
    intro i _ hi
    exact if_neg (fun h => hi ((hmem i).2 h)))) $$ H
  iintro H
  iapply wpp_ret
  iapply Hk
  iexists _
  isplitl [H]; · iexact H
  ipureintro
  intro i hi
  by_cases h : (i 0).val = Δ.cur b + t.val
  · exact if_pos h
  · exact (if_neg h).trans (hX i (by omega))

theorem t1_body (b : Fin k0_t1_loop.trips) (hb : b.val < 8) (Q' : BitVec 32 → sProp 𝕄) :
    iprop(LNm M Δ c ∗ WL M Δ (Δ.cur b.val) c)
      ⊢ iprop((iprop(LNm M Δ c ∗ WL M Δ (Δ.cur (b.val + 1)) c) -∗ Q' (BitVec.ofNat 32 (Δ.cur (b.val + 1))))
        -∗ wpp c (k0_t1_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem b (BitVec.ofNat 32 (Δ.cur b.val))) Q') := by
  have hle := cur_le Δ hb
  have hn := n_le Δ
  iintro ⟨HL, HW⟩ Hk
  unfold k0_t1_body
  iapply (wpp_len M Δ (o_1 (by omega)) hb) $$ HL
  iintro HL
  iapply (wpp_assume (chk1_holds (Δ.ln b.val) (by omega)))
  iapply (wpp_for (c := c) (init := ⟨⟩) (fun k _ => WL M Δ (Δ.cur b.val + k) c) (by
    intro t _
    iintro H
    iapply (t2_body M Δ hb (chk1_holds (Δ.ln b.val) (by omega)) t (t.isLt.trans_eq (wi_trips _)) (fun _ => WL M Δ (Δ.cur b.val + (t.val + 1)) c)) $$ H
    iintro H
    iexact H)) $$ HW
  iintro %_ HW
  iapply (wpp_for_none (wir_trips _))
  have e1 : (k0_t2_loop (Δ.ln b.val)).trips = nwin (Δ.ln b.val) := wi_trips _
  have e2 : Scalar.addi (BitVec.ofNat 32 (Δ.cur b.val)) (wwin (Δ.ln b.val)) = BitVec.ofNat 32 (Δ.cur (b.val + 1)) := by
    rw [wwin_eq, addN, ← cur_succ Δ hb]
  rw [e1, ← cur_succ Δ hb, ← e2]
  iapply wpp_ret
  iapply Hk
  isplitl [HL]; · iexact HL
  iexact HW

/-- The list is written. -/
theorem wpp_list {hok} {kk : BitVec 32 → Prog (TpuEff nD τ sig (Elt Bits) Λ₀ .tc) α} {X} :
    iprop(LNm M Δ c ∗ mpt c M.work Finset.univ fullShare X)
      ⊢ iprop((iprop(LNm M Δ c ∗ WL M Δ Δ.n c) -∗ wpp c (kk (BitVec.ofNat 32 Δ.n)) Q)
        -∗ wpp c (Scf.Loop.for k0_t1_loop hok 0#32 (k0_t1_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem) >>= kk) Q) := by
  iintro ⟨HL, HW⟩ Hk
  iapply (wpp_for (c := c) (init := 0#32) (fun k acc => iprop(⌜acc = BitVec.ofNat 32 (Δ.cur k)⌝ ∗ LNm M Δ c ∗ WL M Δ (Δ.cur k) c)) (by
    intro b acc
    iintro ⟨%he, H⟩
    subst he
    iapply (t1_body M Δ b (b.isLt.trans_eq rfl) (fun acc => iprop(⌜acc = BitVec.ofNat 32 (Δ.cur (b.val + 1))⌝ ∗ LNm M Δ c ∗ WL M Δ (Δ.cur (b.val + 1)) c))) $$ H
    iintro H
    isplitr [H]; · ipureintro; rfl
    iexact H)) $$ [HL HW]
  · rw [cur_zero]
    isplitr [HL HW]; · ipureintro; rfl
    isplitl [HL]; · iexact HL
    unfold WL
    iexists X
    isplitl [HW]; · iexact HW
    ipureintro
    intro i hi
    omega
  iintro %acc ⟨%he, H⟩
  have he' : acc = BitVec.ofNat 32 Δ.n := he
  subst he'
  iapply Hk
  iexact H

/-! ## The zeros -/

/-- The zeros with their first heads written. -/
def ZI (N : ℕ) (c : Dev nD) : sProp 𝕄 :=
  iprop(∃ X, mpt c M.zeros Finset.univ fullShare X ∗ ⌜∀ i : S108x128x128.Idx, (i 0).val < N → X i = (0 : BitVec 16)⌝)

theorem t12_body (t : Fin k0_t12_loop.trips) (ht : t.val < 108) (Q' : Unit → sProp 𝕄) :
    ZI M t.val c ⊢ iprop((ZI M (t.val + 1) c -∗ Q' ⟨⟩) -∗ wpp c (k0_t12_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem t ⟨⟩) Q') := by
  have ho : k0_off32 t = ![t.val, 0, 0] := congrArg (fun z => ![z, 0, 0]) (iv_toNat (by omega))
  have hmem : ∀ i : S108x128x128.Idx, i ∈ (Rect.unit (s := S108x128x128) (k0_off32 t) S1x128x128.size (k0_off32_inb t)).set ↔ (i 0).val = t.val := by
    intro i
    rw [Rect.mem_set_unit, ho]
    have h1 : (i 1).val < 128 := (i 1).isLt
    have h2 : (i 2).val < 128 := (i 2).isLt
    constructor
    · intro h
      have h0 : t.val ≤ (i 0).val ∧ (i 0).val < t.val + 1 := h 0
      omega
    · intro h a
      match a with
      | ⟨0, _⟩ => show t.val ≤ (i 0).val ∧ (i 0).val < t.val + 1; omega
      | ⟨1, _⟩ => exact ⟨Nat.zero_le _, by show (i 1).val < 0 + 128; omega⟩
      | ⟨2, _⟩ => exact ⟨Nat.zero_le _, by show (i 2).val < 0 + 128; omega⟩
  unfold ZI
  iintro ⟨%X, H, %hX⟩ Hk
  unfold k0_t12_body
  iapply (wpp_load (β := Unit) (I := Finset.univ) (X := X) (q := fullShare) (Finset.subset_univ _)) $$ H
  iintro H
  iapply (wpp_store (I := Finset.univ) (X := X) (Y := fun i => if (i 0).val = t.val then (0 : BitVec 16) else X i) (Finset.subset_univ _) (by
    intro x
    exact if_pos ((hmem _).1 (Rect.map_emb_univ _ ▸ Finset.mem_map_of_mem _ (Finset.mem_univ x)))) (by
    intro i _ hi
    exact if_neg (fun h => hi ((hmem i).2 h)))) $$ H
  iintro H
  iapply wpp_ret
  iapply Hk
  iexists _
  isplitl [H]; · iexact H
  ipureintro
  intro i hi
  by_cases h : (i 0).val = t.val
  · exact if_pos h
  · exact (if_neg h).trans (hX i (by omega))

/-- The zeros are written. -/
theorem wpp_zeros {hok} {kk : Unit → Prog (TpuEff nD τ sig (Elt Bits) Λ₀ .tc) α} {X} :
    mpt c M.zeros Finset.univ fullShare X
      ⊢ iprop((mpt c M.zeros Finset.univ fullShare (fun _ => (0 : BitVec 16)) -∗ wpp c (kk ⟨⟩) Q)
        -∗ wpp c (Scf.Loop.for k0_t12_loop hok ⟨⟩ (k0_t12_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem) >>= kk) Q) := by
  iintro HW Hk
  iapply (wpp_for (c := c) (init := ⟨⟩) (fun k _ => ZI M k c) (by
    intro t _
    iintro H
    iapply (t12_body M t (t.isLt.trans_eq rfl) (fun _ => ZI M (t.val + 1) c)) $$ H
    iintro H
    iexact H)) $$ [HW]
  · unfold ZI
    iexists X
    isplitl [HW]; · iexact HW
    ipureintro
    intro i hi
    omega
  iintro %_ H
  iapply Hk
  have h : ZI M k0_t12_loop.trips c ⊢ mpt c M.zeros Finset.univ fullShare (fun _ => (0 : BitVec 16)) := by
    unfold ZI
    iintro ⟨%X, H, %hX⟩
    have e : mpt c M.zeros Finset.univ fullShare X = mpt c M.zeros Finset.univ fullShare (fun _ => (0 : BitVec 16)) := mpt_congr M.zeros (fun i _ => hX i (i 0).isLt)
    iapply (Entails.of_eq e)
    iexact H
  iapply h
  iexact H

/-! ## The windows without a live position -/

/-- A number's leaf of the zeros' share. -/
def qz (r : ℕ) : PosShare TreeShare := ShareLeaves.leaf 8 fullShare (Fin.ofNat 256 r)
def ZZ (c : Dev nD) (r : ℕ) : sProp 𝕄 := mpt c M.zeros Finset.univ (qz r) (fun _ => (0 : BitVec 16))
/-- What the `r`-th zeroing delivers. -/
def ZDel (c : Dev nD) (r : ℕ) : sProp 𝕄 := iprop(Wout M Δ (Fin.ofNat 2 r) c (Δ.DK (r / 2)) ∗ ZZ M c r)
/-- What it takes. -/
def ZRes (c : Dev nD) (r : ℕ) : sProp 𝕄 := iprop(Win M (Fin.ofNat 2 r) c (Δ.DK (r / 2)) ∗ ZZ M c r)
abbrev ZB (c : Dev nD) (j u : ℕ) : sProp 𝕄 :=
  Transfers.Batch EC (c : Thread nD τ) (.dma M.zsem.sem) () M.NW (fun t : Fin (2 * (128 - Δ.n)) => ZDel M Δ c t.val) j u
/-- The first `r` zeroings issued. -/
def ZS (c : Dev nD) (r : ℕ) : sProp 𝕄 := iprop(bigSep (Finset.Ico r (2 * (128 - Δ.n))) (ZRes M Δ c) ∗ ZB M Δ c r 0)

instance ZDel_storable (c : Dev nD) (r : ℕ) : Storable (upEmb : UEmb _ 𝕄) (ZDel M Δ c r) := by
  unfold ZDel Wout ZZ; infer_instance

theorem TO_dead (kv : Fin 2) {w : ℕ} (h : Δ.dead w) : ∀ i ∈ winset w, Δ.TO kv i = (0 : BitVec 16) := by
  intro i hi
  obtain ⟨-, h0, h2⟩ := Finset.mem_filter.1 hi
  refine if_neg ?_
  rw [h0]
  have h1 := h.2
  unfold nwin at h1
  omega

theorem wpp_zero1 (kv : Fin 2) {r i : ℕ} (hk : Fin.ofNat 2 r = kv) (hi : r / 2 = i) (hr : r < 2 * (128 - Δ.n)) {o2 : Fin 4 → ℕ} (e2 : o2 = ![Δ.DK i / 16, 0, Δ.DK i % 16 * 128, 0])
    {i2 hr2 hs2 h1 h2 h3} {k : PUnit → Prog (TpuEff nD τ sig (Elt Bits) Λ₀ .tc) α} :
    ZS M Δ c r ⊢ iprop((ZS M Δ c (r + 1) -∗ wpp c (k ⟨⟩) Q)
          -∗ wpp c (Prog.lift (TpuEff.enqueueDma M.zeros
              (.here (((M.out kv).slice (Rect.unit (s := S8x108x2048x128) o2 S1x108x128x128.size i2) hr2).squeeze S108x128x128 hs2))
              (.dma M.zsem.sem) h1 h2 h3) >>= k) Q) := by
  subst hk hi
  unfold ZS
  rw [Ico_bot hr]
  unfold ZRes Win ZZ
  iintro ⟨⟨⟨⟨%Y, HW⟩, HZ⟩, HI⟩, HB⟩ Hk
  iapply (wpp_zero M Δ e2 (TO_dead Δ _ (DK_ok Δ (by omega))) (q := qz r) (Y := Y) (D := fun t : Fin (2 * (128 - Δ.n)) => ZDel M Δ c t.val) hr rfl) $$ [HZ HW HB]
  · isplitl [HZ]; · iexact HZ
    isplitl [HW]; · iexact HW
    iexact HB
  iintro HB
  iapply Hk
  isplitl [HI]; · iexact HI
  iexact HB

end Cert.Proof.K
-- ==== Proof.Item.lean ====
/- One item: its pages, its chunks and their writes. -/
module

public import proofs.«01_k».proof.Proof.Deq
public import proofs.«01_k».proof.Proof.Lists

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

local notation "V" => Elt Bits
local notation "𝕄" => MT nD τ sig Unit (Elt Bits) ℕ (Pipeline.UD sig nD τ) ℕ

variable (M : Mems) (Δ : Data) {c : Dev nD} {α : Type} {Q : α → sProp 𝕄}

/-- A window's page reads: in flight while there is such an item. -/
def RSt (kv : Fin 2) (i : ℕ) (c : Dev nD) : sProp 𝕄 := if i < Δ.n then RD M Δ kv (i % 2) (Δ.WK i) c else RI M Δ kv (i % 2) c
/-- The chunk slot of item `i`: in flight from two items before. -/
def WSt (kv : Fin 2) (i : ℕ) (c : Dev nD) : sProp 𝕄 := if 2 ≤ i then WBt M Δ kv (i % 2) (Δ.WK (i - 2)) c 1 0 else WI M kv (i % 2) c
/-- The windows whose write was waited for. -/
def WD (kv : Fin 2) (k : ℕ) (c : Dev nD) : sProp 𝕄 := bigSep (Finset.range k) (fun a => Wout M Δ kv c (Δ.WK a))
/-- The windows whose write was not started. -/
def WN (kv : Fin 2) (k : ℕ) (c : Dev nD) : sProp 𝕄 := bigSep (Finset.Ico k Δ.n) (fun a => Win M kv c (Δ.WK a))

theorem WD_succ (kv : Fin 2) (k : ℕ) : iprop(WD M Δ kv k c ∗ Wout M Δ kv c (Δ.WK k)) ⊢ WD M Δ kv (k + 1) c := by
  have e := range_top k (fun a => Wout M Δ kv c (Δ.WK a))
  unfold WD
  iintro ⟨H1, H2⟩
  iapply (Entails.of_eq e.symm)
  isplitl [H2]; · iexact H2
  iexact H1

theorem WN_succ (kv : Fin 2) {k : ℕ} (h : k < Δ.n) : WN M Δ kv k c ⊢ iprop(Win M kv c (Δ.WK k) ∗ WN M Δ kv (k + 1) c) := by
  have e := Ico_bot h (fun a => Win M kv c (Δ.WK a))
  unfold WN
  rw [e]

/-- The wait for the write of two items before, where there is one. -/
theorem wpp_if_wait (kv : Fin 2) {i : ℕ} {cond : Prop} [Decidable cond] (hc : cond ↔ 2 ≤ i) {sem' : cond → DmaSem sig} (hsm : ∀ h, sem' h = M.semW kv (i % 2)) {sp' : Space} {s' : Shape} {e' : EltTy}
    {srcw : cond → Memref sig .tc sp' s' e'} {r2 : Rect S8x108x2048x128} {hr2} {hs2 : r2.shape.Squeezes S108x128x128} {h1 : ∀ h : cond, _} {h2 : ∀ h : cond, _}
    {R : Prog (TpuEff nD τ sig (Elt Bits) Λ₀ .tc) α} :
    iprop(WSt M Δ kv i c ∗ WD M Δ kv (i - 2) c ∗ OW c)
      ⊢ iprop((iprop(WI M kv (i % 2) c ∗ WD M Δ kv (i - 1) c ∗ OW c) -∗ wpp c R Q)
        -∗ wpp c (dite cond (fun h => Prog.lift (TpuEff.waitDma2 (sem' h) (srcw h) (((M.out kv).slice r2 hr2).squeeze S108x128x128 hs2) (h1 h) (h2 h)) >>= fun _ => R) (fun _ => R)) Q) := by
  unfold WSt
  by_cases h : 2 ≤ i
  · rw [if_pos h, dif_pos (hc.2 h)]
    iintro ⟨HB, HD, HO⟩ Hk
    iapply (wpp_wait_write M Δ (hsm (hc.2 h))) $$ [HB HO]
    · isplitl [HB]; · iexact HB
      iexact HO
    iintro ⟨HI, HW, HO⟩
    iapply Hk
    isplitl [HI]; · iexact HI
    isplitl [HD HW]
    · have e := WD_succ (c := c) M Δ kv (i - 2)
      rw [show i - 2 + 1 = i - 1 from by omega] at e
      iapply e
      isplitl [HD]; · iexact HD
      iexact HW
    iexact HO
  · rw [if_neg h, dif_neg (fun hx => h (hc.1 hx))]
    iintro ⟨HB, HD, HO⟩ Hk
    iapply Hk
    isplitl [HB]; · iexact HB
    isplitl [HD]
    · iapply (Entails.of_eq (congrArg (fun k => WD M Δ kv k c) (show i - 2 = i - 1 from by omega))); iexact HD
    iexact HO

/-- A chunk at any contents has no page done. -/
theorem DQ_zero (kv : Fin 2) (σ w : ℕ) {X} : mpt c M.chunks (chset kv σ) fullShare X ⊢ DQ M Δ kv σ w 0 0 c := by
  unfold DQ
  iintro H
  iexists X
  isplitl [H]; · iexact H
  ipureintro
  intro i hi
  rcases hi with h | ⟨_, h⟩ <;> exact absurd h (Nat.not_lt_zero _)

section
variable {n : ℕ} (hn : n ≤ 128)

theorem chk24_holds (i : Fin (k0_t34_loop (BitVec.ofNat 32 n)).trips) {w : ℕ} (hw : w < 128) : k0_chk24 (BitVec.ofNat 32 n) i (BitVec.ofNat 32 w) :=
  fun _ => inbE (o_b hw) (in_b (by omega))
theorem chk30_holds (i : Fin (k0_t34_loop (BitVec.ofNat 32 n)).trips) {w : ℕ} (hw : w < 128) : k0_chk30 (BitVec.ofNat 32 n) i (BitVec.ofNat 32 w) :=
  fun _ => inbE (o_b hw) (in_b (by omega))
end

/-- The item's word of the work list. -/
theorem wpp_item {o : Fin 1 → ℕ} {b : ℕ} (e : o = ![b]) (hb : b < Δ.n) {i h1 hp} {k : BitVec 32 → Prog (TpuEff nD τ sig (Elt Bits) Λ₀ .tc) α} :
    WL M Δ Δ.n c ⊢ iprop((WL M Δ Δ.n c -∗ wpp c (k (BitVec.ofNat 32 (Δ.WK b))) Q)
      -∗ wpp c (smemLoad M.work (Rect.unit (s := S128) o S1.size i) h1 hp >>= k) Q) := by
  have hb' : b < 128 := lt_of_lt_of_le hb (n_le Δ)
  unfold WL
  iintro ⟨%X, H, %hX⟩ Hk
  iapply (wpp_word M e hb') $$ H
  iintro H
  have e2 : X (ix1 (Fin.ofNat 128 b)) = BitVec.ofNat 32 (Δ.WK b) := by
    have hv : (Fin.ofNat 128 b).val = b := ofNat_val hb'
    have := hX (ix1 (Fin.ofNat 128 b)) (by show (Fin.ofNat 128 b).val < _; rw [hv]; exact hb)
    rw [this]
    show BitVec.ofNat 32 (Δ.WK (Fin.ofNat 128 b).val) = _
    rw [hv]
  rw [e2]
  iapply Hk
  iexists X
  isplitl [H]; · iexact H
  ipureintro; exact hX

section
variable (h19 : k0_chk19 (BitVec.ofNat 32 Δ.n)) (i : Fin (k0_t34_loop (BitVec.ofNat 32 Δ.n)).trips)

theorem it_n : i.val < Δ.n := it_lt (n_le Δ) i
theorem it_128 : i.val < 129 := by have := it_n Δ i; have := n_le Δ; omega
theorem it_pred : i.val + 2 - 2 = i.val := by omega

theorem RSt_in (kv : Fin 2) {i : ℕ} (h : i < Δ.n) : RSt M Δ kv i c = RD M Δ kv (i % 2) (Δ.WK i) c := if_pos h

omit h19 i in
theorem wpp_dif_pos {cond : Prop} [Decidable cond] {p : cond → Prog (TpuEff nD τ sig (Elt Bits) Λ₀ .tc) α} {q : ¬cond → Prog (TpuEff nD τ sig (Elt Bits) Λ₀ .tc) α} (h : cond) :
    wpp c (p h) Q ⊢ wpp c (dite cond p q) Q := by rw [dif_pos h]
omit h19 i in
theorem wpp_dif_neg {cond : Prop} [Decidable cond] {p : cond → Prog (TpuEff nD τ sig (Elt Bits) Λ₀ .tc) α} {q : ¬cond → Prog (TpuEff nD τ sig (Elt Bits) Λ₀ .tc) α} (h : ¬cond) :
    wpp c (q h) Q ⊢ wpp c (dite cond p q) Q := by rw [dif_neg h]

/-- What an item needs of one pool. -/
def Pre (kv : Fin 2) (i : ℕ) (c : Dev nD) : sProp 𝕄 :=
  iprop((PTm M Δ c ∗ LNm M Δ c) ∗ TBm M Δ c ∗ WL M Δ Δ.n c ∗ RSt M Δ kv i c ∗ WSt M Δ kv i c ∗ WD M Δ kv (i - 2) c ∗ OW c)
/-- What an item leaves of one pool before its write. -/
def Post (kv : Fin 2) (i : ℕ) (c : Dev nD) : sProp 𝕄 :=
  iprop((PTm M Δ c ∗ LNm M Δ c) ∗ TBm M Δ c ∗ WL M Δ Δ.n c ∗ RSt M Δ kv (i + 2) c
    ∗ (mpt c M.chunks (chset kv (i % 2)) fullShare (Δ.CHB kv (Δ.WK i)) ∗ semVal ((c : Thread nD τ), .dma (M.semW kv (i % 2))) 0) ∗ WD M Δ kv (i - 1) c ∗ OW c)

theorem RD_next (kv : Fin 2) {i : ℕ} (h : i + 2 < Δ.n) : RD M Δ kv (i % 2) (Δ.WK (i + 2)) c ⊢ RSt M Δ kv (i + 2) c := by
  unfold RSt
  rw [if_pos h, show (i + 2) % 2 = i % 2 from by omega]
theorem RI_next (kv : Fin 2) {i : ℕ} (h : ¬ i + 2 < Δ.n) : RI M Δ kv (i % 2) c ⊢ RSt M Δ kv (i + 2) c := by
  unfold RSt
  rw [if_neg h, show (i + 2) % 2 = i % 2 from by omega]

theorem wpp_half0 (a18 v226 v245 v263 : BitVec 32) (h21 : k0_chk21 (BitVec.ofNat 32 Δ.n) i (BitVec.ofNat 32 (Δ.WK i.val)) (Δ.ln (Δ.WK i.val / 16))) (Q' : BitVec 32 → sProp 𝕄) :
    Pre M Δ 0 i.val c ⊢ iprop((∀ x, Post M Δ 0 i.val c -∗ Q' x)
      -∗ wpp c (k0_part410 M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem (BitVec.ofNat 32 Δ.n) h19 i a18 v226 (BitVec.ofNat 32 (Δ.WK i.val)) v245 (fmod16 (BitVec.ofNat 32 (Δ.WK i.val))) (Δ.ln (Δ.WK i.val / 16)) h21 v263) Q') := by
  have hi := it_n Δ i
  have hw := WK_lt Δ hi
  have hk3 := cond3_iff (n_le Δ) i
  have hk4 := cond4_iff (n_le Δ) i
  rw [k0_part410_eq_skeleton]
  unfold Pre Post k0_part410_skel
  rw [RSt_in M Δ 0 hi]
  iintro ⟨HP, HT, HL, HR, HW, HD, HO⟩ Hk
  iapply (wpp_wait_loop M Δ (pg_trips hw _) (fun t ht u hu Q' => t35_body M Δ hw (n_le Δ) h19 i a18 _ _ _ _ h21 t ht u hu Q')) $$ [HR HO]
  · isplitl [HR]; · iexact HR
    iexact HO
  iintro ⟨HR, HO⟩
  iapply (wpp_for_none (pgr_trips hw _))
  iapply (wpp_if_wait M Δ 0 hk3 (fun h => sem2_eq M.wsem (kv := 0) (σ := i.val % 2) (o_sg 0 (by have := it_128 Δ i; omega)) (Nat.mod_lt _ (by decide)) _ _)) $$ [HW HD HO]
  · isplitl [HW]; · iexact HW
    isplitl [HD]; · iexact HD
    iexact HO
  iintro ⟨HW, HD, HO⟩
  unfold WI
  icases HW with ⟨⟨%X, HC⟩, HS⟩
  iapply (wpp_deq M Δ 0 (pg_trips hw _) (fun t ht Q' => t37_body M Δ hw (n_le Δ) h19 i a18 _ _ _ h21 t ht Q')) $$ [HP HT HR HC]
  · isplitl [HP]; · iexact HP
    isplitl [HT]; · iexact HT
    isplitl [HR]; · iexact HR
    iapply (DQ_zero M Δ 0 (i.val % 2) (Δ.WK i.val)); iexact HC
  iintro ⟨HP, HT, HR, HC⟩
  iapply (wpp_for_none (pgr_trips hw _))
  iapply (wpp_blank M Δ 0 (bl_trips hw _) (fun t ht Q' => t39_body M Δ hw (n_le Δ) h19 i a18 _ _ _ _ _ h21 t ht Q')) $$ HC
  iintro HC
  iapply (wpp_for_none (blr_trips hw _))
  by_cases h : i.val + 2 < Δ.n
  · iapply (wpp_dif_pos (hk4.2 h))
    have hi2 := h
    have hw2 := WK_lt Δ hi2
    iapply wpp_bind
    rw [k0_part233_eq_skeleton]
    unfold k0_part233_skel
    iapply (wpp_item M Δ (o_2 (by have := it_128 Δ i; omega)) h) $$ HL
    iintro HL
    iapply (wpp_assume (chk24_holds i hw2))
    icases HP with ⟨HP, HN⟩
    iapply (wpp_len M Δ (o_b hw2) (by omega)) $$ HN
    iintro HN
    iapply (wpp_assume (chk25_holds hw2 _ (n_le Δ) i))
    iapply wpp_ret
    iapply (wpp_issue_loop M Δ (pg_trips hw2 _) (fun t ht Q' => t41_body M Δ hw2 (n_le Δ) h19 i a18 _ _ _ _ _ _ h21 (hk4.2 h) _ t ht Q')) $$ [HP HR]
    · isplitl [HP]; · iexact HP
      iapply (RR_RI M Δ 0 (i.val % 2) (Δ.WK i.val)); iexact HR
    iintro ⟨HP, HR⟩
    iapply (wpp_for_none (pgr_trips hw2 _))
    iapply wpp_ret
    iapply Hk
    isplitl [HP HN]
    · isplitl [HP]; · iexact HP
      iexact HN
    isplitl [HT]; · iexact HT
    isplitl [HL]; · iexact HL
    isplitl [HR]; · iapply (RD_next M Δ 0 h); iexact HR
    isplitl [HC HS]
    · isplitl [HC]; · iexact HC
      iexact HS
    isplitl [HD]; · iexact HD
    iexact HO
  · iapply (wpp_dif_neg (fun hx => h (hk4.1 hx)))
    iapply wpp_ret
    iapply Hk
    isplitl [HP]; · iexact HP
    isplitl [HT]; · iexact HT
    isplitl [HL]; · iexact HL
    isplitl [HR]
    · iapply (RI_next M Δ 0 h)
      iapply (RR_RI M Δ 0 (i.val % 2) (Δ.WK i.val)); iexact HR
    isplitl [HC HS]
    · isplitl [HC]; · iexact HC
      iexact HS
    isplitl [HD]; · iexact HD
    iexact HO

theorem wpp_half1 (a18 v226 v245 v265 : BitVec 32) (h20 : k0_chk20 (BitVec.ofNat 32 (Δ.WK i.val))) (h21 : k0_chk21 (BitVec.ofNat 32 Δ.n) i (BitVec.ofNat 32 (Δ.WK i.val)) (Δ.ln (Δ.WK i.val / 16))) (Q' : BitVec 32 → sProp 𝕄) :
    iprop((mpt c M.chunks (chset (0 : Fin 2) (i.val % 2)) fullShare (Δ.CHB 0 (Δ.WK i.val)) ∗ Win M 0 c (Δ.WK i.val) ∗ semVal ((c : Thread nD τ), .dma (M.semW 0 (i.val % 2))) 0) ∗ Pre M Δ 1 i.val c)
      ⊢ iprop((∀ x, (iprop(WBt M Δ 0 (i.val % 2) (Δ.WK i.val) c 1 0 ∗ Post M Δ 1 i.val c)) -∗ Q' x)
      -∗ wpp c (k0_part411 M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem (BitVec.ofNat 32 Δ.n) h19 i a18 v226 (BitVec.ofNat 32 (Δ.WK i.val)) h20 v245 (fmod16 (BitVec.ofNat 32 (Δ.WK i.val))) (Δ.ln (Δ.WK i.val / 16)) h21 v265) Q') := by
  have hi := it_n Δ i
  have hw := WK_lt Δ hi
  have hk5 := cond5_iff (n_le Δ) i
  have hk6 := cond6_iff (n_le Δ) i
  rw [k0_part411_eq_skeleton]
  unfold Pre Post k0_part411_skel
  rw [RSt_in M Δ 1 hi]
  iintro ⟨HZ, HP, HT, HL, HR, HW, HD, HO⟩ Hk
  iapply (wpp_start_write M Δ (kv := 0) (σ := i.val % 2) (Nat.mod_lt _ (by decide)) (o_ch 0 (by have := it_128 Δ i; omega)) (o_win hw) (o_sg 0 (by have := it_128 Δ i; omega))) $$ HZ
  iintro HZ
  iapply (wpp_wait_loop M Δ (pg_trips hw _) (fun t ht u hu Q' => t43_body M Δ hw (n_le Δ) h19 i a18 _ _ _ _ h20 h21 t ht u hu Q')) $$ [HR HO]
  · isplitl [HR]; · iexact HR
    iexact HO
  iintro ⟨HR, HO⟩
  iapply (wpp_for_none (pgr_trips hw _))
  iapply (wpp_if_wait M Δ 1 hk5 (fun h => sem2_eq M.wsem (kv := 1) (σ := i.val % 2) (o_sg 1 (by have := it_128 Δ i; omega)) (Nat.mod_lt _ (by decide)) _ _)) $$ [HW HD HO]
  · isplitl [HW]; · iexact HW
    isplitl [HD]; · iexact HD
    iexact HO
  iintro ⟨HW, HD, HO⟩
  unfold WI
  icases HW with ⟨⟨%X, HC⟩, HS⟩
  iapply (wpp_deq M Δ 1 (pg_trips hw _) (fun t ht Q' => t45_body M Δ hw (n_le Δ) h19 i a18 _ _ _ h20 h21 t ht Q')) $$ [HP HT HR HC]
  · isplitl [HP]; · iexact HP
    isplitl [HT]; · iexact HT
    isplitl [HR]; · iexact HR
    iapply (DQ_zero M Δ 1 (i.val % 2) (Δ.WK i.val)); iexact HC
  iintro ⟨HP, HT, HR, HC⟩
  iapply (wpp_for_none (pgr_trips hw _))
  iapply (wpp_blank M Δ 1 (bl_trips hw _) (fun t ht Q' => t47_body M Δ hw (n_le Δ) h19 i a18 _ _ _ _ h20 h21 t ht Q')) $$ HC
  iintro HC
  iapply (wpp_for_none (blr_trips hw _))
  by_cases h : i.val + 2 < Δ.n
  · iapply (wpp_dif_pos (hk6.2 h))
    have hi2 := h
    have hw2 := WK_lt Δ hi2
    iapply wpp_bind
    rw [k0_part408_eq_skeleton]
    unfold k0_part408_skel
    iapply (wpp_item M Δ (o_2 (by have := it_128 Δ i; omega)) h) $$ HL
    iintro HL
    iapply (wpp_assume (chk30_holds i hw2))
    icases HP with ⟨HP, HN⟩
    iapply (wpp_len M Δ (o_b hw2) (by omega)) $$ HN
    iintro HN
    iapply (wpp_assume (chk31_holds hw2 _ (n_le Δ) i))
    iapply wpp_ret
    iapply (wpp_issue_loop M Δ (pg_trips hw2 _) (fun t ht Q' => t49_body M Δ hw2 (n_le Δ) h19 i a18 _ _ _ _ _ _ h20 h21 (hk6.2 h) _ t ht Q')) $$ [HP HR]
    · isplitl [HP]; · iexact HP
      iapply (RR_RI M Δ 1 (i.val % 2) (Δ.WK i.val)); iexact HR
    iintro ⟨HP, HR⟩
    iapply (wpp_for_none (pgr_trips hw2 _))
    iapply wpp_ret
    iapply Hk
    isplitl [HZ]; · iexact HZ
    isplitl [HP HN]
    · isplitl [HP]; · iexact HP
      iexact HN
    isplitl [HT]; · iexact HT
    isplitl [HL]; · iexact HL
    isplitl [HR]; · iapply (RD_next M Δ 1 h); iexact HR
    isplitl [HC HS]
    · isplitl [HC]; · iexact HC
      iexact HS
    isplitl [HD]; · iexact HD
    iexact HO
  · iapply (wpp_dif_neg (fun hx => h (hk6.1 hx)))
    iapply wpp_ret
    iapply Hk
    isplitl [HZ]; · iexact HZ
    isplitl [HP]; · iexact HP
    isplitl [HT]; · iexact HT
    isplitl [HL]; · iexact HL
    isplitl [HR]
    · iapply (RI_next M Δ 1 h)
      iapply (RR_RI M Δ 1 (i.val % 2) (Δ.WK i.val)); iexact HR
    isplitl [HC HS]
    · isplitl [HC]; · iexact HC
      iexact HS
    isplitl [HD]; · iexact HD
    iexact HO

/-- What the loop over the items keeps of one pool. -/
def One (kv : Fin 2) (i : ℕ) (c : Dev nD) : sProp 𝕄 :=
  iprop((RSt M Δ kv i c ∗ RSt M Δ kv (i + 1) c) ∗ (WSt M Δ kv i c ∗ WSt M Δ kv (i + 1) c) ∗ WD M Δ kv (i - 2) c ∗ WN M Δ kv i c)
/-- What the loop over the items keeps. -/
def Items (i : ℕ) (c : Dev nD) : sProp 𝕄 :=
  iprop(((PTm M Δ c ∗ LNm M Δ c) ∗ TBm M Δ c ∗ WL M Δ Δ.n c ∗ OW c) ∗ One M Δ 0 i c ∗ One M Δ 1 i c)

theorem WB_next (kv : Fin 2) (i : ℕ) : WBt M Δ kv (i % 2) (Δ.WK i) c 1 0 ⊢ WSt M Δ kv (i + 2) c := by
  unfold WSt
  rw [if_pos (show 2 ≤ i + 2 by omega), show (i + 2) % 2 = i % 2 from by omega, show i + 2 - 2 = i from by omega]

theorem t34_body (Q' : Unit → sProp 𝕄) :
    Items M Δ i.val c ⊢ iprop((Items M Δ (i.val + 1) c -∗ Q' ⟨⟩) -∗ wpp c (k0_t34_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem (BitVec.ofNat 32 Δ.n) h19 i ⟨⟩) Q') := by
  have hi := it_n Δ i
  have hw := WK_lt Δ hi
  unfold Items One k0_t34_body
  iintro ⟨⟨HP, HT, HL, HO⟩, ⟨⟨HR0, HR0'⟩, ⟨HW0, HW0'⟩, HD0, HN0⟩, ⟨⟨HR1, HR1'⟩, ⟨HW1, HW1'⟩, HD1, HN1⟩⟩ Hk
  iapply wpp_bind
  rw [k0_part409_eq_skeleton]
  unfold k0_part409_skel
  iapply (wpp_item M Δ (o_1 (by have := it_128 Δ i; omega)) hi) $$ HL
  iintro HL
  iapply (wpp_assume (chk20_holds hw))
  icases HP with ⟨HP, HN⟩
  iapply (wpp_len M Δ (o_b hw) (by omega)) $$ HN
  iintro HN
  iapply (wpp_assume (chk21_holds hw _ (n_le Δ) i))
  iapply wpp_ret
  iapply wpp_bind
  iapply (wpp_half0 M Δ h19 i _ _ _ _ _ _) $$ [HP HN HT HL HR0 HW0 HD0 HO]
  · unfold Pre
    isplitl [HP HN]
    · isplitl [HP]; · iexact HP
      iexact HN
    isplitl [HT]; · iexact HT
    isplitl [HL]; · iexact HL
    isplitl [HR0]; · iexact HR0
    isplitl [HW0]; · iexact HW0
    isplitl [HD0]; · iexact HD0
    iexact HO
  iintro %x H
  unfold Post
  icases H with ⟨HP, HT, HL, HR0, ⟨HC, HS⟩, HD0, HO⟩
  iapply wpp_bind
  ihave HN0 := (WN_succ M Δ 0 hi) $$ HN0
  icases HN0 with ⟨HI, HN0⟩
  iapply (wpp_half1 M Δ h19 i _ _ _ _ (chk20_holds hw) _ _) $$ [HC HI HS HP HT HL HR1 HW1 HD1 HO]
  · unfold Pre
    isplitl [HC HI HS]
    · isplitl [HC]; · iexact HC
      isplitl [HI]; · iexact HI
      iexact HS
    isplitl [HP]; · iexact HP
    isplitl [HT]; · iexact HT
    isplitl [HL]; · iexact HL
    isplitl [HR1]; · iexact HR1
    isplitl [HW1]; · iexact HW1
    isplitl [HD1]; · iexact HD1
    iexact HO
  iintro %y ⟨HB0, H⟩
  unfold Post
  icases H with ⟨HP, HT, HL, HR1, ⟨HC, HS⟩, HD1, HO⟩
  ihave HN1 := (WN_succ M Δ 1 hi) $$ HN1
  icases HN1 with ⟨HI, HN1⟩
  iapply (wpp_start_write M Δ (kv := 1) (σ := i.val % 2) (Nat.mod_lt _ (by decide)) (o_ch 1 (by have := it_128 Δ i; omega)) (o_win hw) (o_sg 1 (by have := it_128 Δ i; omega))) $$ [HC HI HS]
  · isplitl [HC]; · iexact HC
    isplitl [HI]; · iexact HI
    iexact HS
  iintro HB1
  iapply wpp_ret
  iapply Hk
  isplitl [HP HT HL HO]
  · isplitl [HP]; · iexact HP
    isplitl [HT]; · iexact HT
    isplitl [HL]; · iexact HL
    iexact HO
  isplitl [HR0 HR0' HB0 HW0' HD0 HN0]
  · isplitl [HR0 HR0']
    · isplitl [HR0']; · iexact HR0'
      iexact HR0
    isplitl [HB0 HW0']
    · isplitl [HW0']; · iexact HW0'
      iapply (WB_next M Δ 0 i.val); iexact HB0
    isplitl [HD0]; · iexact HD0
    iexact HN0
  · isplitl [HR1 HR1']
    · isplitl [HR1']; · iexact HR1'
      iexact HR1
    isplitl [HB1 HW1']
    · isplitl [HW1']; · iexact HW1'
      iapply (WB_next M Δ 1 i.val); iexact HB1
    isplitl [HD1]; · iexact HD1
    iexact HN1
end

/-- The loop over the items. -/
theorem wpp_items (h19 : k0_chk19 (BitVec.ofNat 32 Δ.n)) {hok} {kk : Unit → Prog (TpuEff nD τ sig (Elt Bits) Λ₀ .tc) α} :
    Items M Δ 0 c ⊢ iprop((Items M Δ Δ.n c -∗ wpp c (kk ⟨⟩) Q)
      -∗ wpp c (Scf.Loop.for (k0_t34_loop (BitVec.ofNat 32 Δ.n)) hok ⟨⟩ (k0_t34_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem (BitVec.ofNat 32 Δ.n) h19) >>= kk) Q) := by
  iintro H Hk
  iapply (wpp_for (c := c) (Q := Q) (kk := kk) (init := ⟨⟩) (fun k _ => Items M Δ k c) (by
    intro i _
    iintro H
    iapply (t34_body M Δ h19 i (fun _ => Items M Δ (i.val + 1) c)) $$ H
    iintro H
    iexact H)) $$ H
  iintro %_ H
  iapply Hk
  have e : (k0_t34_loop (BitVec.ofNat 32 Δ.n)).trips = Δ.n := it_trips (n_le Δ)
  iapply (Entails.of_eq (congrArg (fun k => Items M Δ k c) e))
  iexact H

end Cert.Proof.K
-- ==== Proof.Zero.lean ====
/- The windows without a live position: their zeroings. -/
module

public import proofs.«01_k».proof.Proof.Lists

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

local notation "V" => Elt Bits
local notation "𝕄" => MT nD τ sig Unit (Elt Bits) ℕ (Pipeline.UD sig nD τ) ℕ

variable (M : Mems) (Δ : Data) {c : Dev nD} {α : Type} {Q : α → sProp 𝕄}

theorem sep_pairs (A B C D : sProp 𝕄) : iprop(A ∗ B ∗ C ∗ D) = iprop((B ∗ C) ∗ A ∗ D) := by
  have h1 : iprop(A ∗ B ∗ C ∗ D) ⊢ iprop((B ∗ C) ∗ A ∗ D) := by
    iintro ⟨H1, H2, H3, H4⟩
    isplitl [H2 H3]
    · isplitl [H2]; · iexact H2
      iexact H3
    isplitl [H1]; · iexact H1
    iexact H4
  have h2 : iprop((B ∗ C) ∗ A ∗ D) ⊢ iprop(A ∗ B ∗ C ∗ D) := by
    iintro ⟨⟨H2, H3⟩, H1, H4⟩
    isplitl [H1]; · iexact H1
    isplitl [H2]; · iexact H2
    isplitl [H3]; · iexact H3
    iexact H4
  exact Entails.antisymm h1 h2
theorem sep_none : iprop(emp ∗ emp) = (iprop(emp) : sProp 𝕄) := by
  have h1 : (iprop(emp ∗ emp) : sProp 𝕄) ⊢ iprop(emp) := by
    iintro ⟨H, -⟩
    iexact H
  have h2 : (iprop(emp) : sProp 𝕄) ⊢ iprop(emp ∗ emp) := by
    iintro H
    isplitl [H]; · iexact H
    iempintro
  exact Entails.antisymm h1 h2

theorem range_two (m : ℕ) (Φ : ℕ → sProp 𝕄) : bigSep (Finset.range (2 * m)) Φ = iprop(bigSep (Finset.range m) (fun i => Φ (2 * i)) ∗ bigSep (Finset.range m) (fun i => Φ (2 * i + 1))) := by
  induction m with
  | zero =>
    rw [Nat.mul_zero, Finset.range_zero, bigSep_empty, bigSep_empty]
    exact sep_none.symm
  | succ m ih =>
    rw [show 2 * (m + 1) = (2 * m + 1) + 1 from by omega, range_top, range_top, range_top, range_top, ih]
    exact sep_pairs _ _ _ _

/-- The zeros at their leaves. -/
theorem zeros_split : mpt c M.zeros Finset.univ fullShare (fun _ => (0 : BitVec 16)) = bigSep (Finset.range 256) (ZZ M c) := by
  have h : mpt c M.zeros Finset.univ fullShare (fun _ => (0 : BitVec 16)) = bigSep Finset.univ fun i : Fin (2 ^ 8) => mpt c M.zeros Finset.univ (ShareLeaves.leaf 8 fullShare i) (fun _ => (0 : BitVec 16)) :=
    ShareLeaves.pointsTo_leaves _ _ 8 fullShare
  rw [h, ← bigSep_fin_range 256]
  refine bigSep_congr fun i _ => ?_
  unfold ZZ qz
  have e : (Fin.ofNat 256 i.val : Fin (2 ^ 8)) = i := Fin.ext (Nat.mod_eq_of_lt i.isLt)
  rw [e]

theorem zero_two (i : ℕ) : Fin.ofNat 2 (2 * i) = 0 := Fin.ext (by show 2 * i % 2 = 0; omega)
theorem zero_two1 (i : ℕ) : Fin.ofNat 2 (2 * i + 1) = 1 := Fin.ext (by show (2 * i + 1) % 2 = 1; omega)

/-- The dead windows, both results. -/
theorem dead_pairs (Φ : Fin 2 → ℕ → sProp 𝕄) (m : ℕ) : bigSep (Finset.range (2 * m)) (fun r => Φ (Fin.ofNat 2 r) (Δ.DK (r / 2)))
    = iprop(bigSep (Finset.range m) (fun i => Φ 0 (Δ.DK i)) ∗ bigSep (Finset.range m) (fun i => Φ 1 (Δ.DK i))) := by
  rw [range_two]
  congr 1 <;> refine bigSep_congr fun i _ => ?_
  · rw [zero_two, show 2 * i / 2 = i from by omega]
  · rw [zero_two1, show (2 * i + 1) / 2 = i from by omega]

/-- The zeros' share that no window takes. -/
abbrev ZL (c : Dev nD) : sProp 𝕄 := bigSep (Finset.Ico (2 * (128 - Δ.n)) 256) (ZZ M c)

theorem zeros_start :
    iprop(mpt c M.zeros Finset.univ fullShare (fun _ => (0 : BitVec 16)) ∗ semVal ((c : Thread nD τ), .dma M.zsem.sem) 0
      ∗ bigSep (Finset.range (128 - Δ.n)) (fun i => Win M 0 c (Δ.DK i)) ∗ bigSep (Finset.range (128 - Δ.n)) (fun i => Win M 1 c (Δ.DK i)))
      ⊢ iprop(|={Set.univ}=> (ZS M Δ c 0 ∗ ZL M Δ c)) := by
  rw [zeros_split, bigSep_range_Ico (show 2 * (128 - Δ.n) ≤ 256 by omega)]
  iintro ⟨⟨HZ, HL⟩, Hv, H0, H1⟩
  imod (Transfers.batch_alloc' EC (c : Thread nD τ) (sm := .dma M.zsem.sem) () M.NW (fun t : Fin (2 * (128 - Δ.n)) => ZDel M Δ c t.val) (E := Set.univ)) $$ Hv with HB
  imodintro
  isplitr [HL]
  · unfold ZS
    isplitr [HB]
    · have h : iprop(bigSep (Finset.range (2 * (128 - Δ.n))) (fun r => Win M (Fin.ofNat 2 r) c (Δ.DK (r / 2))) ∗ bigSep (Finset.range (2 * (128 - Δ.n))) (ZZ M c))
          ⊢ bigSep (Finset.Ico 0 (2 * (128 - Δ.n))) (ZRes M Δ c) := by
        rw [← Finset.range_eq_Ico]
        exact Entails.of_eq (bigSep_sep _ _ _).symm
      iapply h
      isplitr [HZ]
      · rw [dead_pairs Δ (fun kv w => Win M kv c w)]
        isplitl [H0]; · iexact H0
        iexact H1
      iexact HZ
    iexact HB
  iexact HL

theorem t15_body {b : Fin k0_t14_loop.trips} (hb : b.val < 8) (hk : k0_chk18 b (Δ.ln b.val)) (t : Fin (k0_t15_loop (Δ.ln b.val)).trips) (ht : t.val < 16 - nwin (Δ.ln b.val)) (Q' : Unit → sProp 𝕄) :
    ZS M Δ c (2 * (Δ.dcur b.val + t.val))
      ⊢ iprop((ZS M Δ c (2 * (Δ.dcur b.val + (t.val + 1))) -∗ Q' ⟨⟩) -∗ wpp c (k0_t15_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem b (Δ.ln b.val) hk t ⟨⟩) Q') := by
  have hd := dcur_le Δ hb
  have hDK := DK_at Δ hb ht
  have e := o_zero hb (Δ.ln b.val) ht
  have e' : ![(Scf.iv 0#32 1#32 b.val).toNat, 0, (Scalar.muli (Scf.iv (wwin (Δ.ln b.val)) 1#32 t.val) 128#32).toNat, 0]
      = ![Δ.DK (Δ.dcur b.val + t.val) / 16, 0, Δ.DK (Δ.dcur b.val + t.val) % 16 * 128, 0] := by
    rw [e, hDK]
    have h1 : (16 * b.val + (nwin (Δ.ln b.val) + t.val)) / 16 = b.val := by omega
    have h2 : (16 * b.val + (nwin (Δ.ln b.val) + t.val)) % 16 = nwin (Δ.ln b.val) + t.val := by omega
    rw [h1, h2]
  iintro H Hk
  unfold k0_t15_body
  iapply (wpp_zero1 M Δ (i := Δ.dcur b.val + t.val) (r := 2 * (Δ.dcur b.val + t.val)) 0 (zero_two _) (by omega) (by omega) e') $$ H
  iintro H
  iapply (wpp_zero1 M Δ (i := Δ.dcur b.val + t.val) (r := 2 * (Δ.dcur b.val + t.val) + 1) 1 (zero_two1 _) (by omega) (by omega) e') $$ H
  iintro H
  iapply wpp_ret
  iapply Hk
  rw [show 2 * (Δ.dcur b.val + (t.val + 1)) = 2 * (Δ.dcur b.val + t.val) + 1 + 1 from by omega]
  iexact H

theorem t14_body (b : Fin k0_t14_loop.trips) (hb : b.val < 8) (Q' : Unit → sProp 𝕄) :
    iprop(LNm M Δ c ∗ ZS M Δ c (2 * Δ.dcur b.val))
      ⊢ iprop((iprop(LNm M Δ c ∗ ZS M Δ c (2 * Δ.dcur (b.val + 1))) -∗ Q' ⟨⟩) -∗ wpp c (k0_t14_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem b ⟨⟩) Q') := by
  iintro ⟨HL, HW⟩ Hk
  unfold k0_t14_body
  iapply (wpp_len M Δ (o_1 (by omega)) hb) $$ HL
  iintro HL
  iapply (wpp_assume (chk18_holds b (Δ.ln b.val)))
  iapply (wpp_for (c := c) (init := ⟨⟩) (fun k _ => ZS M Δ c (2 * (Δ.dcur b.val + k))) (by
    intro t _
    iintro H
    iapply (t15_body M Δ hb (chk18_holds b (Δ.ln b.val)) t (t.isLt.trans_eq (wz_trips _)) (fun _ => ZS M Δ c (2 * (Δ.dcur b.val + (t.val + 1))))) $$ H
    iintro H
    iexact H)) $$ HW
  iintro %_ HW
  iapply (wpp_for_none (wzr_trips _))
  have e1 : (k0_t15_loop (Δ.ln b.val)).trips = 16 - nwin (Δ.ln b.val) := wz_trips _
  rw [e1, ← dcur_succ Δ hb]
  iapply wpp_ret
  iapply Hk
  isplitl [HL]; · iexact HL
  iexact HW

/-- The zeroings are issued. -/
theorem wpp_start_zeros {hok} {kk : Unit → Prog (TpuEff nD τ sig (Elt Bits) Λ₀ .tc) α} :
    iprop(LNm M Δ c ∗ ZS M Δ c 0)
      ⊢ iprop((iprop(LNm M Δ c ∗ ZS M Δ c (2 * (128 - Δ.n))) -∗ wpp c (kk ⟨⟩) Q)
        -∗ wpp c (Scf.Loop.for k0_t14_loop hok ⟨⟩ (k0_t14_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem) >>= kk) Q) := by
  iintro ⟨HL, HW⟩ Hk
  iapply (wpp_for (c := c) (init := ⟨⟩) (fun k _ => iprop(LNm M Δ c ∗ ZS M Δ c (2 * Δ.dcur k))) (by
    intro b _
    iintro H
    iapply (t14_body M Δ b (b.isLt.trans_eq rfl) (fun _ => iprop(LNm M Δ c ∗ ZS M Δ c (2 * Δ.dcur (b.val + 1))))) $$ H
    iintro H
    iexact H)) $$ [HL HW]
  · rw [dcur_zero]
    isplitl [HL]; · iexact HL
    iexact HW
  iintro %_ H
  iapply Hk
  have e : k0_t14_loop.trips = 8 := rfl
  rw [e, dcur_top]
  iexact H

/-- The waits for the zeroings. -/
theorem wpp_wait_zeros (h19 : k0_chk19 (BitVec.ofNat 32 Δ.n)) {hok} {kk : Unit → Prog (TpuEff nD τ sig (Elt Bits) Λ₀ .tc) α} :
    iprop(ZS M Δ c (2 * (128 - Δ.n)) ∗ ZL M Δ c ∗ OW c)
      ⊢ iprop((iprop(mpt c M.zeros Finset.univ fullShare (fun _ => (0 : BitVec 16)) ∗ semVal ((c : Thread nD τ), .dma M.zsem.sem) 0
          ∗ bigSep (Finset.range (128 - Δ.n)) (fun i => Wout M Δ 0 c (Δ.DK i)) ∗ bigSep (Finset.range (128 - Δ.n)) (fun i => Wout M Δ 1 c (Δ.DK i)) ∗ OW c) -∗ wpp c (kk ⟨⟩) Q)
        -∗ wpp c (Scf.Loop.for (k0_t68_loop (BitVec.ofNat 32 Δ.n)) hok ⟨⟩ (k0_t68_body M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem (BitVec.ofNat 32 Δ.n) h19) >>= kk) Q) := by
  have hl : (k0_t68_loop (BitVec.ofNat 32 Δ.n)).trips = 2 * (128 - Δ.n) := de_trips (n_le Δ)
  unfold ZS
  iintro ⟨⟨-, HB⟩, HL, HW⟩ Hk
  iapply (wpp_for (c := c) (init := ⟨⟩) (fun k _ => iprop(ZB M Δ c (2 * (128 - Δ.n)) (M.NW * k) ∗ OW c)) (by
    intro k _
    have hk : k.val < 2 * (128 - Δ.n) := hl ▸ k.isLt
    iintro H
    unfold k0_t68_body
    iapply (wpp_wait' (sem := M.zsem.sem) rfl M.NW (out_credit M 0 _ _ _) (by rw [← Nat.mul_succ]; exact Nat.mul_le_mul_left _ hk)) $$ H
    rw [Nat.mul_succ]
    iintro H
    iapply wpp_ret
    iexact H)) $$ [HB HW]
  · rw [Nat.mul_zero]
    isplitl [HB]; · iexact HB
    iexact HW
  iintro %_ ⟨HB, HW⟩
  rw [hl]
  iapply wpp_fupd
  imod (Transfers.batch_collect' EC (c : Thread nD τ) (NW_pos M)) $$ HB with ⟨HD, Hv⟩
  imodintro
  have h : bigSep (Finset.univ : Finset (Fin (2 * (128 - Δ.n)))) (fun t => ZDel M Δ c t.val)
      ⊢ iprop((bigSep (Finset.range (128 - Δ.n)) (fun i => Wout M Δ 0 c (Δ.DK i)) ∗ bigSep (Finset.range (128 - Δ.n)) (fun i => Wout M Δ 1 c (Δ.DK i))) ∗ bigSep (Finset.range (2 * (128 - Δ.n))) (ZZ M c)) := by
    rw [bigSep_fin_range _ (ZDel M Δ c), ← dead_pairs Δ (fun kv w => Wout M Δ kv c w)]
    exact Entails.of_eq (bigSep_sep _ _ _)
  ihave HD := h $$ HD
  icases HD with ⟨⟨H0, H1⟩, HZ⟩
  iapply Hk
  isplitl [HZ HL]
  · rw [zeros_split, bigSep_range_Ico (show 2 * (128 - Δ.n) ≤ 256 by omega)]
    isplitl [HZ]; · iexact HZ
    iexact HL
  isplitl [Hv]; · iexact Hv
  isplitl [H0]; · iexact H0
  isplitl [H1]; · iexact H1
  iexact HW

end Cert.Proof.K
-- ==== Proof.Parts.lean ====
/- The packing of the scales and the loop over the items. -/
module

public import proofs.«01_k».proof.Proof.Stages
public import proofs.«01_k».proof.Proof.Item
public import proofs.«01_k».proof.Proof.Zero

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

local notation "V" => Elt Bits
local notation "𝕄" => MT nD τ sig Unit (Elt Bits) ℕ (Pipeline.UD sig nD τ) ℕ

variable (M : Mems) (Δ : Data) {c : Dev nD} {α : Type} {Q : α → sProp 𝕄}

/-! ## The packing of the scales -/

/-- Every block written: the tables. -/
theorem TI_all : TI M Δ ((17 + 1) * 120) c ⊢ TBm M Δ c := by
  unfold TI
  iintro ⟨%X, H, %hX⟩
  have e : X = Δ.TB := funext fun i => hX i (by
    have h0 : (i 0).val < 2 := (i 0).isLt
    have h1 : (i 1).val < 10 := (i 1).isLt
    have h2 : (i 2).val < 108 := (i 2).isLt
    omega)
  subst e
  iexact H

theorem TI_of {N : ℕ} : TBm M Δ c ⊢ TI M Δ N c := by
  unfold TI
  iintro H
  iexists _
  isplitl [H]; · iexact H
  ipureintro
  intro i _
  rfl

theorem wpp_part86 (Q' : PUnit → sProp 𝕄) :
    iprop(LNm M Δ c ∗ ZS M Δ c 0 ∗ StA M Δ 0 c ∗ OW c)
      ⊢ iprop((iprop(LNm M Δ c ∗ ZS M Δ c (2 * (128 - Δ.n)) ∗ StC M Δ 1 c ∗ OW c) -∗ Q' (⟨⟩)) -∗ wpp c (k0_part766 M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem) Q') := by
  iintro ⟨HN, HZ, HS, HO⟩ Hk
  rw [k0_part766_eq_skeleton]
  unfold k0_part766_skel
  iapply (st_wait M Δ 0 (kv := 0) (σ := 0) (b := 0) (by decide) rfl rfl (by decide) rfl) $$ [HS HO]
  · isplitl [HS]; · iexact HS
    iexact HO
  iintro ⟨HS, HO⟩
  iapply (st_conv M Δ 0 (kv := 0) (σ := 0) (b := 0) (by decide) rfl rfl (by decide) (show k0_t13_loop.trips = 12 by decide) (by decide) (by decide) (t13_eq M)) $$ HS
  iintro HS
  iapply (wpp_start_zeros M Δ) $$ [HN HZ]
  · isplitl [HN]; · iexact HN
    iexact HZ
  iintro ⟨HN, HZ⟩
  iapply (st_start M Δ 0 (kv := 0) (σ := 0) (b := 2) (by decide) rfl rfl (by decide) rfl rfl rfl) $$ HS
  iintro HS
  iapply (st_wait M Δ 1 (kv := 0) (σ := 1) (b := 1) (by decide) rfl rfl (by decide) rfl) $$ [HS HO]
  · isplitl [HS]; · iexact HS
    iexact HO
  iintro ⟨HS, HO⟩
  iapply (st_conv M Δ 1 (kv := 0) (σ := 1) (b := 1) (by decide) rfl rfl (by decide) (show k0_t17_loop.trips = 12 by decide) (by decide) (by decide) (t17_eq M)) $$ HS
  iintro HS
  iapply wpp_ret
  iapply Hk
  isplitl [HN]; · iexact HN
  isplitl [HZ]; · iexact HZ
  isplitl [HS]; · iexact HS
  iexact HO

theorem wpp_part87 (Q' : BitVec 32 → sProp 𝕄) :
    iprop(StC M Δ 1 c ∗ OW c)
      ⊢ iprop((iprop(StB M Δ 3 c ∗ OW c) -∗ Q' (0#32)) -∗ wpp c (k0_part767 M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem) Q') := by
  iintro ⟨HS, HO⟩ Hk
  rw [k0_part767_eq_skeleton]
  unfold k0_part767_skel
  iapply (st_start M Δ 1 (kv := 0) (σ := 1) (b := 3) (by decide) rfl rfl (by decide) rfl rfl rfl) $$ HS
  iintro HS
  iapply (st_wait M Δ 2 (kv := 0) (σ := 0) (b := 2) (by decide) rfl rfl (by decide) rfl) $$ [HS HO]
  · isplitl [HS]; · iexact HS
    iexact HO
  iintro ⟨HS, HO⟩
  iapply (st_conv M Δ 2 (kv := 0) (σ := 0) (b := 2) (by decide) rfl rfl (by decide) (show k0_t18_loop.trips = 12 by decide) (by decide) (by decide) (t18_eq M)) $$ HS
  iintro HS
  iapply (st_start M Δ 2 (kv := 0) (σ := 0) (b := 4) (by decide) rfl rfl (by decide) rfl rfl rfl) $$ HS
  iintro HS
  iapply (st_wait M Δ 3 (kv := 0) (σ := 1) (b := 3) (by decide) rfl rfl (by decide) rfl) $$ [HS HO]
  · isplitl [HS]; · iexact HS
    iexact HO
  iintro ⟨HS, HO⟩
  iapply wpp_ret
  iapply Hk
  isplitl [HS]; · iexact HS
  iexact HO

theorem wpp_part88 (x : BitVec 32) (Q' : PUnit → sProp 𝕄) :
    iprop(StB M Δ 3 c ∗ OW c)
      ⊢ iprop((iprop(StA M Δ 5 c ∗ OW c) -∗ Q' (⟨⟩)) -∗ wpp c (k0_part768 M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem x) Q') := by
  iintro ⟨HS, HO⟩ Hk
  rw [k0_part768_eq_skeleton]
  unfold k0_part768_skel
  iapply (st_conv M Δ 3 (kv := 0) (σ := 1) (b := 3) (by decide) rfl rfl (by decide) (show k0_t19_loop.trips = 12 by decide) (by decide) (by decide) (t19_eq M x)) $$ HS
  iintro HS
  iapply (st_start M Δ 3 (kv := 0) (σ := 1) (b := 5) (by decide) rfl rfl (by decide) rfl rfl rfl) $$ HS
  iintro HS
  iapply (st_wait M Δ 4 (kv := 0) (σ := 0) (b := 4) (by decide) rfl rfl (by decide) rfl) $$ [HS HO]
  · isplitl [HS]; · iexact HS
    iexact HO
  iintro ⟨HS, HO⟩
  iapply (st_conv M Δ 4 (kv := 0) (σ := 0) (b := 4) (by decide) rfl rfl (by decide) (show k0_t20_loop.trips = 12 by decide) (by decide) (by decide) (t20_eq M x)) $$ HS
  iintro HS
  iapply (st_start M Δ 4 (kv := 0) (σ := 0) (b := 6) (by decide) rfl rfl (by decide) rfl rfl rfl) $$ HS
  iintro HS
  iapply wpp_ret
  iapply Hk
  isplitl [HS]; · iexact HS
  iexact HO

theorem wpp_part89 (Q' : PUnit → sProp 𝕄) :
    iprop(StA M Δ 5 c ∗ OW c)
      ⊢ iprop((iprop(StA M Δ 7 c ∗ OW c) -∗ Q' (⟨⟩)) -∗ wpp c (k0_part769 M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem) Q') := by
  iintro ⟨HS, HO⟩ Hk
  rw [k0_part769_eq_skeleton]
  unfold k0_part769_skel
  iapply (st_wait M Δ 5 (kv := 0) (σ := 1) (b := 5) (by decide) rfl rfl (by decide) rfl) $$ [HS HO]
  · isplitl [HS]; · iexact HS
    iexact HO
  iintro ⟨HS, HO⟩
  iapply (st_conv M Δ 5 (kv := 0) (σ := 1) (b := 5) (by decide) rfl rfl (by decide) (show k0_t21_loop.trips = 12 by decide) (by decide) (by decide) (t21_eq M)) $$ HS
  iintro HS
  iapply (st_start M Δ 5 (kv := 0) (σ := 1) (b := 7) (by decide) rfl rfl (by decide) rfl rfl rfl) $$ HS
  iintro HS
  iapply (st_wait M Δ 6 (kv := 0) (σ := 0) (b := 6) (by decide) rfl rfl (by decide) rfl) $$ [HS HO]
  · isplitl [HS]; · iexact HS
    iexact HO
  iintro ⟨HS, HO⟩
  iapply (st_conv M Δ 6 (kv := 0) (σ := 0) (b := 6) (by decide) rfl rfl (by decide) (show k0_t22_loop.trips = 12 by decide) (by decide) (by decide) (t22_eq M)) $$ HS
  iintro HS
  iapply (st_start M Δ 6 (kv := 0) (σ := 0) (b := 8) (by decide) rfl rfl (by decide) rfl rfl rfl) $$ HS
  iintro HS
  iapply wpp_ret
  iapply Hk
  isplitl [HS]; · iexact HS
  iexact HO

theorem wpp_part90 (Q' : PUnit → sProp 𝕄) :
    iprop(StA M Δ 7 c ∗ OW c)
      ⊢ iprop((iprop(StC M Δ 8 c ∗ OW c) -∗ Q' (⟨⟩)) -∗ wpp c (k0_part770 M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem) Q') := by
  iintro ⟨HS, HO⟩ Hk
  rw [k0_part770_eq_skeleton]
  unfold k0_part770_skel
  iapply (st_wait M Δ 7 (kv := 0) (σ := 1) (b := 7) (by decide) rfl rfl (by decide) rfl) $$ [HS HO]
  · isplitl [HS]; · iexact HS
    iexact HO
  iintro ⟨HS, HO⟩
  iapply (st_conv M Δ 7 (kv := 0) (σ := 1) (b := 7) (by decide) rfl rfl (by decide) (show k0_t23_loop.trips = 12 by decide) (by decide) (by decide) (t23_eq M)) $$ HS
  iintro HS
  iapply (st_start M Δ 7 (kv := 1) (σ := 1) (b := 0) (by decide) rfl rfl (by decide) rfl rfl rfl) $$ HS
  iintro HS
  iapply (st_wait M Δ 8 (kv := 0) (σ := 0) (b := 8) (by decide) rfl rfl (by decide) rfl) $$ [HS HO]
  · isplitl [HS]; · iexact HS
    iexact HO
  iintro ⟨HS, HO⟩
  iapply (st_conv M Δ 8 (kv := 0) (σ := 0) (b := 8) (by decide) rfl rfl (by decide) (show k0_t24_loop.trips = 12 by decide) (by decide) (by decide) (t24_eq M)) $$ HS
  iintro HS
  iapply wpp_ret
  iapply Hk
  isplitl [HS]; · iexact HS
  iexact HO

theorem wpp_part91 (Q' : PUnit → sProp 𝕄) :
    iprop(StC M Δ 8 c ∗ OW c)
      ⊢ iprop((iprop(StC M Δ 10 c ∗ OW c) -∗ Q' (⟨⟩)) -∗ wpp c (k0_part771 M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem) Q') := by
  iintro ⟨HS, HO⟩ Hk
  rw [k0_part771_eq_skeleton]
  unfold k0_part771_skel
  iapply (st_start M Δ 8 (kv := 1) (σ := 0) (b := 1) (by decide) rfl rfl (by decide) rfl rfl rfl) $$ HS
  iintro HS
  iapply (st_wait M Δ 9 (kv := 1) (σ := 1) (b := 0) (by decide) rfl rfl (by decide) rfl) $$ [HS HO]
  · isplitl [HS]; · iexact HS
    iexact HO
  iintro ⟨HS, HO⟩
  iapply (st_conv M Δ 9 (kv := 1) (σ := 1) (b := 0) (by decide) rfl rfl (by decide) (show k0_t25_loop.trips = 12 by decide) (by decide) (by decide) (t25_eq M)) $$ HS
  iintro HS
  iapply (st_start M Δ 9 (kv := 1) (σ := 1) (b := 2) (by decide) rfl rfl (by decide) rfl rfl rfl) $$ HS
  iintro HS
  iapply (st_wait M Δ 10 (kv := 1) (σ := 0) (b := 1) (by decide) rfl rfl (by decide) rfl) $$ [HS HO]
  · isplitl [HS]; · iexact HS
    iexact HO
  iintro ⟨HS, HO⟩
  iapply (st_conv M Δ 10 (kv := 1) (σ := 0) (b := 1) (by decide) rfl rfl (by decide) (show k0_t26_loop.trips = 12 by decide) (by decide) (by decide) (t26_eq M)) $$ HS
  iintro HS
  iapply wpp_ret
  iapply Hk
  isplitl [HS]; · iexact HS
  iexact HO

theorem wpp_part92 (Q' : PUnit → sProp 𝕄) :
    iprop(StC M Δ 10 c ∗ OW c)
      ⊢ iprop((iprop(StA M Δ 12 c ∗ OW c) -∗ Q' (⟨⟩)) -∗ wpp c (k0_part772 M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem) Q') := by
  iintro ⟨HS, HO⟩ Hk
  rw [k0_part772_eq_skeleton]
  unfold k0_part772_skel
  iapply (st_start M Δ 10 (kv := 1) (σ := 0) (b := 3) (by decide) rfl rfl (by decide) rfl rfl rfl) $$ HS
  iintro HS
  iapply (st_wait M Δ 11 (kv := 1) (σ := 1) (b := 2) (by decide) rfl rfl (by decide) rfl) $$ [HS HO]
  · isplitl [HS]; · iexact HS
    iexact HO
  iintro ⟨HS, HO⟩
  iapply (st_conv M Δ 11 (kv := 1) (σ := 1) (b := 2) (by decide) rfl rfl (by decide) (show k0_t27_loop.trips = 12 by decide) (by decide) (by decide) (t27_eq M)) $$ HS
  iintro HS
  iapply (st_start M Δ 11 (kv := 1) (σ := 1) (b := 4) (by decide) rfl rfl (by decide) rfl rfl rfl) $$ HS
  iintro HS
  iapply wpp_ret
  iapply Hk
  isplitl [HS]; · iexact HS
  iexact HO

theorem wpp_part93 (Q' : PUnit → sProp 𝕄) :
    iprop(StA M Δ 12 c ∗ OW c)
      ⊢ iprop((iprop(StA M Δ 14 c ∗ OW c) -∗ Q' (⟨⟩)) -∗ wpp c (k0_part773 M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem) Q') := by
  iintro ⟨HS, HO⟩ Hk
  rw [k0_part773_eq_skeleton]
  unfold k0_part773_skel
  iapply (st_wait M Δ 12 (kv := 1) (σ := 0) (b := 3) (by decide) rfl rfl (by decide) rfl) $$ [HS HO]
  · isplitl [HS]; · iexact HS
    iexact HO
  iintro ⟨HS, HO⟩
  iapply (st_conv M Δ 12 (kv := 1) (σ := 0) (b := 3) (by decide) rfl rfl (by decide) (show k0_t28_loop.trips = 12 by decide) (by decide) (by decide) (t28_eq M)) $$ HS
  iintro HS
  iapply (st_start M Δ 12 (kv := 1) (σ := 0) (b := 5) (by decide) rfl rfl (by decide) rfl rfl rfl) $$ HS
  iintro HS
  iapply (st_wait M Δ 13 (kv := 1) (σ := 1) (b := 4) (by decide) rfl rfl (by decide) rfl) $$ [HS HO]
  · isplitl [HS]; · iexact HS
    iexact HO
  iintro ⟨HS, HO⟩
  iapply (st_conv M Δ 13 (kv := 1) (σ := 1) (b := 4) (by decide) rfl rfl (by decide) (show k0_t29_loop.trips = 12 by decide) (by decide) (by decide) (t29_eq M)) $$ HS
  iintro HS
  iapply (st_start M Δ 13 (kv := 1) (σ := 1) (b := 6) (by decide) rfl rfl (by decide) rfl rfl rfl) $$ HS
  iintro HS
  iapply wpp_ret
  iapply Hk
  isplitl [HS]; · iexact HS
  iexact HO

theorem wpp_part94 (Q' : PUnit → sProp 𝕄) :
    iprop(StA M Δ 14 c ∗ OW c)
      ⊢ iprop((iprop(StC M Δ 15 c ∗ OW c) -∗ Q' (⟨⟩)) -∗ wpp c (k0_part774 M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem) Q') := by
  iintro ⟨HS, HO⟩ Hk
  rw [k0_part774_eq_skeleton]
  unfold k0_part774_skel
  iapply (st_wait M Δ 14 (kv := 1) (σ := 0) (b := 5) (by decide) rfl rfl (by decide) rfl) $$ [HS HO]
  · isplitl [HS]; · iexact HS
    iexact HO
  iintro ⟨HS, HO⟩
  iapply (st_conv M Δ 14 (kv := 1) (σ := 0) (b := 5) (by decide) rfl rfl (by decide) (show k0_t30_loop.trips = 12 by decide) (by decide) (by decide) (t30_eq M)) $$ HS
  iintro HS
  iapply (st_start M Δ 14 (kv := 1) (σ := 0) (b := 7) (by decide) rfl rfl (by decide) rfl rfl rfl) $$ HS
  iintro HS
  iapply (st_wait M Δ 15 (kv := 1) (σ := 1) (b := 6) (by decide) rfl rfl (by decide) rfl) $$ [HS HO]
  · isplitl [HS]; · iexact HS
    iexact HO
  iintro ⟨HS, HO⟩
  iapply (st_conv M Δ 15 (kv := 1) (σ := 1) (b := 6) (by decide) rfl rfl (by decide) (show k0_t31_loop.trips = 12 by decide) (by decide) (by decide) (t31_eq M)) $$ HS
  iintro HS
  iapply wpp_ret
  iapply Hk
  isplitl [HS]; · iexact HS
  iexact HO

theorem wpp_part95 (h19 : k0_chk19 (BitVec.ofNat 32 Δ.n)) (Q' : BitVec 32 → sProp 𝕄) :
    iprop(StC M Δ 15 c ∗ ((PTm M Δ c ∗ LNm M Δ c) ∗ WL M Δ Δ.n c) ∗ One M Δ 0 0 c ∗ One M Δ 1 0 c ∗ OW c)
      ⊢ iprop((∀ x, iprop(StC M Δ 17 c ∗ ((PTm M Δ c ∗ LNm M Δ c) ∗ WL M Δ Δ.n c) ∗ One M Δ 0 Δ.n c ∗ One M Δ 1 Δ.n c ∗ OW c) -∗ Q' x) -∗ wpp c (k0_part775 M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem (BitVec.ofNat 32 Δ.n) h19) Q') := by
  iintro ⟨HS, ⟨HP, HL⟩, H0, H1, HO⟩ Hk
  rw [k0_part775_eq_skeleton]
  unfold k0_part775_skel
  iapply (st_start M Δ 15 (kv := 1) (σ := 1) (b := 8) (by decide) rfl rfl (by decide) rfl rfl rfl) $$ HS
  iintro HS
  iapply (st_wait M Δ 16 (kv := 1) (σ := 0) (b := 7) (by decide) rfl rfl (by decide) rfl) $$ [HS HO]
  · isplitl [HS]; · iexact HS
    iexact HO
  iintro ⟨HS, HO⟩
  iapply (st_conv M Δ 16 (kv := 1) (σ := 0) (b := 7) (by decide) rfl rfl (by decide) (show k0_t32_loop.trips = 12 by decide) (by decide) (by decide) (t32_eq M _ h19)) $$ HS
  iintro HS
  ihave HS := (st_skip M Δ) $$ HS
  iapply (st_wait M Δ 17 (kv := 1) (σ := 1) (b := 8) (by decide) rfl rfl (by decide) rfl) $$ [HS HO]
  · isplitl [HS]; · iexact HS
    iexact HO
  iintro ⟨HS, HO⟩
  iapply (st_conv M Δ 17 (kv := 1) (σ := 1) (b := 8) (by decide) rfl rfl (by decide) (show k0_t33_loop.trips = 12 by decide) (by decide) (by decide) (t33_eq M _ h19)) $$ HS
  iintro HS
  unfold StC
  icases HS with ⟨HI, HF, HT, HA⟩
  ihave HT := (TI_all M Δ) $$ HT
  iapply (wpp_items M Δ h19) $$ [HP HL HT HO H0 H1]
  · unfold Items
    isplitl [HP HT HL HO]
    · isplitl [HP]; · iexact HP
      isplitl [HT]; · iexact HT
      isplitl [HL]; · iexact HL
      iexact HO
    isplitl [H0]; · iexact H0
    iexact H1
  unfold Items
  iintro ⟨⟨HP, HT, HL, HO⟩, H0, H1⟩
  iapply (wpp_for_none (itr_trips (n_le Δ)))
  iapply wpp_ret
  iapply Hk
  isplitl [HI HF HT HA]
  · isplitl [HI]; · iexact HI
    isplitl [HF]; · iexact HF
    isplitl [HT]; · iapply (TI_of M Δ); iexact HT
    iexact HA
  isplitl [HP HL]
  · isplitl [HP]; · iexact HP
    iexact HL
  isplitl [H0]; · iexact H0
  isplitl [H1]; · iexact H1
  iexact HO

end Cert.Proof.K
-- ==== Proof.First.lean ====
/- The start of the region: the work list, the first reads and the zeros. -/
module

public import proofs.«01_k».proof.Proof.Parts

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

local notation "V" => Elt Bits
local notation "𝕄" => MT nD τ sig Unit (Elt Bits) ℕ (Pipeline.UD sig nD τ) ℕ

variable (M : Mems) (Δ : Data) {c : Dev nD} {α : Type} {Q : α → sProp 𝕄}

theorem wpp_merge {A B : sProp 𝕄} {cond : Prop} [Decidable cond] {p : cond → Prog (TpuEff nD τ sig (Elt Bits) Λ₀ .tc) α} {R : Prog (TpuEff nD τ sig (Elt Bits) Λ₀ .tc) α}
    (hp : ∀ h, A ⊢ iprop((B -∗ wpp c R Q) -∗ wpp c (p h) Q)) (hn : ¬ cond → A ⊢ B) :
    A ⊢ iprop((B -∗ wpp c R Q) -∗ wpp c (dite cond p (fun _ => R)) Q) := by
  by_cases h : cond
  · rw [dif_pos h]; exact hp h
  · rw [dif_neg h]
    iintro HA Hk
    iapply Hk
    iapply (hn h)
    iexact HA

theorem RSt_out (kv : Fin 2) {i : ℕ} (h : ¬ i < Δ.n) : RSt M Δ kv i c = RI M Δ kv (i % 2) c := if_neg h

/-- The first reads of item 0, where there is such an item. -/
theorem reads0_part1 (h : k0_cond1 (BitVec.ofNat 32 Δ.n) = 1#1) (hi : 0 < Δ.n) (Q' : _ → sProp 𝕄) :
    iprop(LNm M Δ c ∗ WL M Δ Δ.n c)
      ⊢ iprop((∀ a b v k, iprop(LNm M Δ c ∗ WL M Δ Δ.n c) -∗ Q' ⟨BitVec.ofNat 32 (Δ.WK 0), a, b, Δ.ln (Δ.WK 0 / 16), k, 8#32, v⟩)
        -∗ wpp c (k0_part1 M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem (BitVec.ofNat 32 Δ.n) h) Q') := by
  have hw := WK_lt Δ hi
  rw [k0_part1_eq_skeleton]
  unfold k0_part1_skel
  iintro ⟨HN, HL⟩ Hk
  iapply (wpp_item M Δ (b := 0) rfl hi) $$ HL
  iintro HL
  iapply (wpp_assume (chk2_holds hw _))
  iapply (wpp_len M Δ (o_b hw) (by omega)) $$ HN
  iintro HN
  iapply (wpp_assume (chk3_holds hw _ _))
  iapply wpp_ret
  iapply Hk
  isplitl [HN]; · iexact HN
  iexact HL

theorem reads0_part2 (h : k0_cond1 (BitVec.ofNat 32 Δ.n) = 1#1) (hi : 0 < Δ.n) (a b z z' : BitVec 32) (k : k0_chk3 (BitVec.ofNat 32 Δ.n) (BitVec.ofNat 32 (Δ.WK 0)) (Δ.ln (Δ.WK 0 / 16))) (Q' : _ → sProp 𝕄) :
    iprop((PTm M Δ c ∗ LNm M Δ c) ∗ WL M Δ Δ.n c ∗ RI M Δ 0 0 c)
      ⊢ iprop((∀ a b k, iprop((PTm M Δ c ∗ LNm M Δ c) ∗ WL M Δ Δ.n c ∗ RD M Δ 0 0 (Δ.WK 0) c) -∗ Q' ⟨BitVec.ofNat 32 (Δ.WK 0), a, b, Δ.ln (Δ.WK 0 / 16), k, 0#32⟩)
        -∗ wpp c (k0_part2 M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem (BitVec.ofNat 32 Δ.n) h (BitVec.ofNat 32 (Δ.WK 0)) a b (Δ.ln (Δ.WK 0 / 16)) k z z') Q') := by
  have hw := WK_lt Δ hi
  rw [k0_part2_eq_skeleton]
  unfold k0_part2_skel
  iintro ⟨⟨HP, HN⟩, HL, H0⟩ Hk
  iapply (wpp_issue_loop M Δ (kv := 0) (σ := 0) (pg_trips hw _) (fun t ht Q' => t4_body M Δ hw _ h _ _ _ _ _ t ht Q')) $$ [HP H0]
  · isplitl [HP]; · iexact HP
    iexact H0
  iintro ⟨HP, H0⟩
  iapply (wpp_for_none (pgr_trips hw _))
  iapply (wpp_item M Δ (b := 0) rfl hi) $$ HL
  iintro HL
  iapply (wpp_assume (chk6_holds hw _))
  iapply (wpp_len M Δ (o_b hw) (by omega)) $$ HN
  iintro HN
  iapply (wpp_assume (chk7_holds hw _ _))
  iapply wpp_ret
  iapply Hk
  isplitl [HP HN]
  · isplitl [HP]; · iexact HP
    iexact HN
  isplitl [HL]; · iexact HL
  iexact H0

/-- The first reads of item 1, where there is such an item. -/
theorem reads1_part3 (h : k0_cond2 (BitVec.ofNat 32 Δ.n) = 1#1) (hi : 1 < Δ.n) (Q' : _ → sProp 𝕄) :
    iprop(LNm M Δ c ∗ WL M Δ Δ.n c)
      ⊢ iprop((∀ a b v k, iprop(LNm M Δ c ∗ WL M Δ Δ.n c) -∗ Q' ⟨BitVec.ofNat 32 (Δ.WK 1), a, b, Δ.ln (Δ.WK 1 / 16), k, 8#32, v⟩)
        -∗ wpp c (k0_part3 M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem (BitVec.ofNat 32 Δ.n) h) Q') := by
  have hw := WK_lt Δ hi
  rw [k0_part3_eq_skeleton]
  unfold k0_part3_skel
  iintro ⟨HN, HL⟩ Hk
  iapply (wpp_item M Δ (b := 1) rfl hi) $$ HL
  iintro HL
  iapply (wpp_assume (chk10_holds hw _))
  iapply (wpp_len M Δ (o_b hw) (by omega)) $$ HN
  iintro HN
  iapply (wpp_assume (chk11_holds hw _ _))
  iapply wpp_ret
  iapply Hk
  isplitl [HN]; · iexact HN
  iexact HL

theorem reads1_part4 (h : k0_cond2 (BitVec.ofNat 32 Δ.n) = 1#1) (hi : 1 < Δ.n) (a b z z' : BitVec 32) (k : k0_chk11 (BitVec.ofNat 32 Δ.n) (BitVec.ofNat 32 (Δ.WK 1)) (Δ.ln (Δ.WK 1 / 16))) (Q' : _ → sProp 𝕄) :
    iprop((PTm M Δ c ∗ LNm M Δ c) ∗ WL M Δ Δ.n c ∗ RI M Δ 0 1 c)
      ⊢ iprop((∀ a b k, iprop((PTm M Δ c ∗ LNm M Δ c) ∗ WL M Δ Δ.n c ∗ RD M Δ 0 1 (Δ.WK 1) c) -∗ Q' ⟨BitVec.ofNat 32 (Δ.WK 1), a, b, Δ.ln (Δ.WK 1 / 16), k, 0#32⟩)
        -∗ wpp c (k0_part4 M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem (BitVec.ofNat 32 Δ.n) h (BitVec.ofNat 32 (Δ.WK 1)) a b (Δ.ln (Δ.WK 1 / 16)) k z z') Q') := by
  have hw := WK_lt Δ hi
  rw [k0_part4_eq_skeleton]
  unfold k0_part4_skel
  iintro ⟨⟨HP, HN⟩, HL, H0⟩ Hk
  iapply (wpp_issue_loop M Δ (kv := 0) (σ := 1) (pg_trips hw _) (fun t ht Q' => t8_body M Δ hw _ h _ _ _ _ _ t ht Q')) $$ [HP H0]
  · isplitl [HP]; · iexact HP
    iexact H0
  iintro ⟨HP, H0⟩
  iapply (wpp_for_none (pgr_trips hw _))
  iapply (wpp_item M Δ (b := 1) rfl hi) $$ HL
  iintro HL
  iapply (wpp_assume (chk14_holds hw _))
  iapply (wpp_len M Δ (o_b hw) (by omega)) $$ HN
  iintro HN
  iapply (wpp_assume (chk15_holds hw _ _))
  iapply wpp_ret
  iapply Hk
  isplitl [HP HN]
  · isplitl [HP]; · iexact HP
    iexact HN
  isplitl [HL]; · iexact HL
  iexact H0

theorem wpp_part85 (Q' : (Σ' v1 : BitVec 32, k0_chk19 v1) → sProp 𝕄) {X Y Z} :
    iprop((PTm M Δ c ∗ LNm M Δ c) ∗ mpt c M.work Finset.univ fullShare X ∗ (RI M Δ 0 0 c ∗ RI M Δ 0 1 c) ∗ (RI M Δ 1 0 c ∗ RI M Δ 1 1 c)
        ∗ mpt c M.zeros Finset.univ fullShare Y ∗ (SI M 0 c ∗ SI M 1 c) ∗ mpt c M.tables Finset.univ fullShare Z ∗ At M Δ 0 0 c)
      ⊢ iprop((iprop((PTm M Δ c ∗ LNm M Δ c) ∗ WL M Δ Δ.n c ∗ (RSt M Δ 0 0 c ∗ RSt M Δ 0 1 c) ∗ (RSt M Δ 1 0 c ∗ RSt M Δ 1 1 c)
          ∗ mpt c M.zeros Finset.univ fullShare (fun _ => (0 : BitVec 16)) ∗ StA M Δ 0 c) -∗ Q' ⟨BitVec.ofNat 32 Δ.n, chk19_holds (n_le Δ)⟩)
        -∗ wpp c (k0_part765 M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem) Q') := by
  have c1 := cond1_iff ⟨Δ.n, Nat.lt_succ_of_le (n_le Δ)⟩
  have c2 := cond2_iff ⟨Δ.n, Nat.lt_succ_of_le (n_le Δ)⟩
  have e0 : SclK M Δ c 0 = Scl M Δ 0 c 0 := rfl
  have e1 : SclK M Δ c (0 + 1) = Scl M Δ 0 c 1 := rfl
  have e2 : SB M Δ 0 0 0 c 1 0 = Fl M Δ 0 c := rfl
  have e3 : SB M Δ 0 1 1 c 1 0 = Fl M Δ (0 + 1) c := rfl
  rw [k0_part765_eq_skeleton]
  unfold k0_part765_skel
  iintro ⟨⟨HP, HN⟩, HW, ⟨H00, H01⟩, ⟨H10, H11⟩, HZ, ⟨HI0, HI1⟩, HT, HA⟩ Hk
  iapply (wpp_list M Δ) $$ [HN HW]
  · isplitl [HN]; · iexact HN
    iexact HW
  iintro ⟨HN, HL⟩
  iapply (wpp_assume (chk19_holds (n_le Δ)))
  ihave HA := (At_take M Δ (show 0 < 18 by decide)) $$ HA
  icases HA with ⟨HC0, HA⟩
  ihave HA := (At_take M Δ (show 0 + 1 < 18 by decide)) $$ HA
  icases HA with ⟨HC1, HA⟩
  iapply (wpp_start_stage M Δ (kv := 0) (σ := 0) (b := 0) (by decide) (by decide) rfl rfl rfl) $$ [HC0 HI0]
  · isplitl [HC0]; · iapply (Entails.of_eq e0); iexact HC0
    iexact HI0
  iintro HF0
  ihave HP : iprop(PTm M Δ c ∗ LNm M Δ c) $$ [HP HN]
  · isplitl [HP]; · iexact HP
    iexact HN
  iapply (wpp_merge (A := iprop((PTm M Δ c ∗ LNm M Δ c) ∗ WL M Δ Δ.n c ∗ RI M Δ 0 0 c ∗ RI M Δ 1 0 c)) (B := iprop((PTm M Δ c ∗ LNm M Δ c) ∗ WL M Δ Δ.n c ∗ RSt M Δ 0 0 c ∗ RSt M Δ 1 0 c)) (fun h => by
    have hi : 0 < Δ.n := c1.1 h
    have hw := WK_lt Δ hi
    iintro ⟨⟨HP, HN⟩, HL, H0, H1⟩ Hk
    iapply wpp_bind
    iapply (reads0_part1 M Δ h hi _) $$ [HN HL]
    · isplitl [HN]; · iexact HN
      iexact HL
    iintro %a %b %v %k ⟨HN, HL⟩
    iapply wpp_bind
    iapply (reads0_part2 M Δ h hi _ _ _ _ _ _) $$ [HP HN HL H0]
    · isplitl [HP HN]
      · isplitl [HP]; · iexact HP
        iexact HN
      isplitl [HL]; · iexact HL
      iexact H0
    iintro %a %b %k ⟨⟨HP, HN⟩, HL, H0⟩
    iapply (wpp_issue_loop M Δ (kv := 1) (σ := 0) (pg_trips hw _) (fun t ht Q' => t6_body M Δ hw _ h _ t ht Q')) $$ [HP H1]
    · isplitl [HP]; · iexact HP
      iexact H1
    iintro ⟨HP, H1⟩
    iapply (wpp_for_none (pgr_trips hw _))
    iapply Hk
    rw [RSt_in M Δ 0 hi, RSt_in M Δ 1 hi]
    isplitl [HP HN]
    · isplitl [HP]; · iexact HP
      iexact HN
    isplitl [HL]; · iexact HL
    isplitl [H0]; · iexact H0
    iexact H1) (fun h => by
    have hi : ¬ 0 < Δ.n := fun hx => h (c1.2 hx)
    rw [RSt_out M Δ 0 hi, RSt_out M Δ 1 hi])) $$ [HP HL H00 H10]
  · isplitl [HP]; · iexact HP
    isplitl [HL]; · iexact HL
    isplitl [H00]; · iexact H00
    iexact H10
  iintro ⟨HP, HL, H00, H10⟩
  iapply (wpp_merge (A := iprop((PTm M Δ c ∗ LNm M Δ c) ∗ WL M Δ Δ.n c ∗ RI M Δ 0 1 c ∗ RI M Δ 1 1 c)) (B := iprop((PTm M Δ c ∗ LNm M Δ c) ∗ WL M Δ Δ.n c ∗ RSt M Δ 0 1 c ∗ RSt M Δ 1 1 c)) (fun h => by
    have hi : 1 < Δ.n := c2.1 h
    have hw := WK_lt Δ hi
    iintro ⟨⟨HP, HN⟩, HL, H0, H1⟩ Hk
    iapply wpp_bind
    iapply (reads1_part3 M Δ h hi _) $$ [HN HL]
    · isplitl [HN]; · iexact HN
      iexact HL
    iintro %a %b %v %k ⟨HN, HL⟩
    iapply wpp_bind
    iapply (reads1_part4 M Δ h hi _ _ _ _ _ _) $$ [HP HN HL H0]
    · isplitl [HP HN]
      · isplitl [HP]; · iexact HP
        iexact HN
      isplitl [HL]; · iexact HL
      iexact H0
    iintro %a %b %k ⟨⟨HP, HN⟩, HL, H0⟩
    iapply (wpp_issue_loop M Δ (kv := 1) (σ := 1) (pg_trips hw _) (fun t ht Q' => t10_body M Δ hw _ h _ t ht Q')) $$ [HP H1]
    · isplitl [HP]; · iexact HP
      iexact H1
    iintro ⟨HP, H1⟩
    iapply (wpp_for_none (pgr_trips hw _))
    iapply Hk
    rw [RSt_in M Δ 0 hi, RSt_in M Δ 1 hi]
    isplitl [HP HN]
    · isplitl [HP]; · iexact HP
      iexact HN
    isplitl [HL]; · iexact HL
    isplitl [H0]; · iexact H0
    iexact H1) (fun h => by
    have hi : ¬ 1 < Δ.n := fun hx => h (c2.2 hx)
    rw [RSt_out M Δ 0 hi, RSt_out M Δ 1 hi])) $$ [HP HL H01 H11]
  · isplitl [HP]; · iexact HP
    isplitl [HL]; · iexact HL
    isplitl [H01]; · iexact H01
    iexact H11
  iintro ⟨HP, HL, H01, H11⟩
  iapply (wpp_zeros M) $$ HZ
  iintro HZ
  iapply (wpp_start_stage M Δ (kv := 0) (σ := 1) (b := 1) (by decide) (by decide) rfl rfl rfl) $$ [HC1 HI1]
  · isplitl [HC1]; · iapply (Entails.of_eq e1); iexact HC1
    iexact HI1
  iintro HF1
  iapply wpp_ret
  iapply Hk
  isplitl [HP]; · iexact HP
  isplitl [HL]; · iexact HL
  isplitl [H00 H01]
  · isplitl [H00]; · iexact H00
    iexact H01
  isplitl [H10 H11]
  · isplitl [H10]; · iexact H10
    iexact H11
  isplitl [HZ]; · iexact HZ
  unfold StA
  isplitl [HF0]; · iapply (Entails.of_eq e2); iexact HF0
  isplitl [HF1]; · iapply (Entails.of_eq e3); iexact HF1
  isplitl [HT]
  · unfold TI
    iexists _
    isplitl [HT]; · iexact HT
    ipureintro
    intro i hi
    exact absurd hi (by omega)
  iexact HA

end Cert.Proof.K
-- ==== Proof.Body.lean ====
/- The whole region. -/
module

public import proofs.«01_k».proof.Proof.First

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

local notation "V" => Elt Bits
local notation "𝕄" => MT nD τ sig Unit (Elt Bits) ℕ (Pipeline.UD sig nD τ) ℕ

variable (M : Mems) (Δ : Data) {c : Dev nD} {α : Type} {Q : α → sProp 𝕄}

theorem wait_two (i : ℕ) {cond : Prop} [Decidable cond] (hc : cond ↔ 2 ≤ i) {s0 s1 : cond → DmaSem sig}
    (hs0 : ∀ h, s0 h = M.semW 0 (i % 2)) (hs1 : ∀ h, s1 h = M.semW 1 (i % 2)) {sp' : Space} {s' : Shape} {e' : EltTy} {sp'' : Space} {s'' : Shape} {e'' : EltTy}
    {src0 : cond → Memref sig .tc sp' s' e'} {src1 : cond → Memref sig .tc sp'' s'' e''}
    {r0 : Rect S8x108x2048x128} {hr0} {hq0 : r0.shape.Squeezes S108x128x128} {r1 : Rect S8x108x2048x128} {hr1} {hq1 : r1.shape.Squeezes S108x128x128}
    {h1 : ∀ h : cond, _} {h2 : ∀ h : cond, _} {h3 : ∀ h : cond, _} {h4 : ∀ h : cond, _}
    {R : Prog (TpuEff nD τ sig (Elt Bits) Λ₀ .tc) α} :
    iprop((WSt M Δ 0 i c ∗ WD M Δ 0 (i - 2) c) ∗ (WSt M Δ 1 i c ∗ WD M Δ 1 (i - 2) c) ∗ OW c)
      ⊢ iprop((iprop((WI M 0 (i % 2) c ∗ WD M Δ 0 (i - 1) c) ∗ (WI M 1 (i % 2) c ∗ WD M Δ 1 (i - 1) c) ∗ OW c) -∗ wpp c R Q)
        -∗ wpp c (dite cond (fun h => Prog.lift (TpuEff.waitDma2 (s0 h) (src0 h) (((M.out 0).slice r0 hr0).squeeze S108x128x128 hq0) (h1 h) (h2 h)) >>= fun _ =>
            Prog.lift (TpuEff.waitDma2 (s1 h) (src1 h) (((M.out 1).slice r1 hr1).squeeze S108x128x128 hq1) (h3 h) (h4 h)) >>= fun _ => R) (fun _ => R)) Q) := by
  unfold WSt
  by_cases h : 2 ≤ i
  · rw [if_pos h, if_pos h, dif_pos (hc.2 h)]
    have e : i - 1 = i - 2 + 1 := by omega
    iintro ⟨⟨HB, HD⟩, ⟨HB', HD'⟩, HO⟩ Hk
    iapply (wpp_wait_write M Δ (hs0 (hc.2 h))) $$ [HB HO]
    · isplitl [HB]; · iexact HB
      iexact HO
    iintro ⟨HW, Hw, HO⟩
    iapply (wpp_wait_write M Δ (hs1 (hc.2 h))) $$ [HB' HO]
    · isplitl [HB']; · iexact HB'
      iexact HO
    iintro ⟨HW', Hw', HO⟩
    iapply Hk
    rw [e]
    isplitl [HW Hw HD]
    · isplitl [HW]; · iexact HW
      iapply (WD_succ M Δ 0 (i - 2)) $$ [HD Hw]
      isplitl [HD]; · iexact HD
      iexact Hw
    isplitl [HW' Hw' HD']
    · isplitl [HW']; · iexact HW'
      iapply (WD_succ M Δ 1 (i - 2)) $$ [HD' Hw']
      isplitl [HD']; · iexact HD'
      iexact Hw'
    iexact HO
  · rw [if_neg h, if_neg h, dif_neg (fun hx => h (hc.1 hx)), show i - 1 = i - 2 from by omega]
    iintro H Hk
    iapply Hk
    iexact H

theorem two_slots (Φ : ℕ → sProp 𝕄) (i : ℕ) : iprop(Φ (i % 2) ∗ Φ ((i + 1) % 2)) ⊢ iprop(Φ 0 ∗ Φ 1) := by
  rcases Nat.mod_two_eq_zero_or_one i with h | h
  · rw [h, show (i + 1) % 2 = 1 from by omega]
  · rw [h, show (i + 1) % 2 = 0 from by omega]
    iintro ⟨H1, H0⟩
    isplitl [H0]; · iexact H0
    iexact H1

/-- The region with nothing in flight. -/
def Idle (c : Dev nD) : sProp 𝕄 :=
  iprop((PTm M Δ c ∗ LNm M Δ c) ∗ (∃ X, mpt c M.work Finset.univ fullShare X) ∗ (RI M Δ 0 0 c ∗ RI M Δ 0 1 c) ∗ (RI M Δ 1 0 c ∗ RI M Δ 1 1 c)
    ∗ (∃ X, mpt c M.zeros Finset.univ fullShare X) ∗ (SI M 0 c ∗ SI M 1 c) ∗ (∃ X, mpt c M.tables Finset.univ fullShare X) ∗ bigSep (Finset.range 18) (SclK M Δ c)
    ∗ (WI M 0 0 c ∗ WI M 0 1 c) ∗ (WI M 1 0 c ∗ WI M 1 1 c) ∗ semVal ((c : Thread nD τ), .dma M.zsem.sem) 0 ∗ OW c)

theorem WL_any : WL M Δ Δ.n c ⊢ iprop(∃ X, mpt c M.work Finset.univ fullShare X) := by
  unfold WL
  iintro ⟨%X, H, -⟩
  iexists X
  iexact H

theorem TI_any {N : ℕ} : TI M Δ N c ⊢ iprop(∃ X, mpt c M.tables Finset.univ fullShare X) := by
  unfold TI
  iintro ⟨%X, H, -⟩
  iexists X
  iexact H

theorem At_start : bigSep (Finset.range 18) (SclK M Δ c) ⊢ At M Δ 0 0 c := by
  have e : At M Δ 0 0 c = iprop(emp ∗ bigSep (Finset.range 18) (SclK M Δ c)) := by
    unfold At; rw [Finset.range_zero, BI.bigSep_empty, Finset.range_eq_Ico]; rfl
  rw [e]
  iintro H
  isplitr; · itrivial
  iexact H

theorem One_start (kv : Fin 2) : iprop((RSt M Δ kv 0 c ∗ RSt M Δ kv 1 c) ∗ (WI M kv 0 c ∗ WI M kv 1 c) ∗ bigSep (Finset.range Δ.n) (fun i => Win M kv c (Δ.WK i))) ⊢ One M Δ kv 0 c := by
  have e0 : WSt M Δ kv 0 c = WI M kv 0 c := rfl
  have e1 : WSt M Δ kv (0 + 1) c = WI M kv 1 c := rfl
  have e2 : WN M Δ kv 0 c = bigSep (Finset.range Δ.n) (fun i => Win M kv c (Δ.WK i)) := by
    unfold WN; rw [Finset.range_eq_Ico]
  have e3 : WD M Δ kv (0 - 2) c = iprop(emp) := by
    unfold WD; exact BI.bigSep_empty
  unfold One
  rw [e0, e1, e2, e3]
  iintro ⟨HR, HW, HN⟩
  isplitl [HR]; · iexact HR
  isplitl [HW]; · iexact HW
  isplitr; · itrivial
  iexact HN

theorem wpp_region (Q' : PUnit → sProp 𝕄) :
    iprop(Idle M Δ c ∗ bigSep (Finset.range 128) (fun w => Win M 0 c w) ∗ bigSep (Finset.range 128) (fun w => Win M 1 c w))
      ⊢ iprop((iprop(Idle M Δ c ∗ bigSep (Finset.range 128) (fun w => Wout M Δ 0 c w) ∗ bigSep (Finset.range 128) (fun w => Wout M Δ 1 c w)) -∗ Q' ⟨⟩)
        -∗ wpp c (cc0_paged_kv_dequant M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem) Q') := by
  have hn := n_le Δ
  have c11 : k0_cond11 (BitVec.ofNat 32 Δ.n) = 1#1 ↔ 2 ≤ Δ.n := cond11_iff ⟨Δ.n, Nat.lt_succ_of_le hn⟩
  have c12 : k0_cond12 (BitVec.ofNat 32 Δ.n) = 1#1 ↔ 1 ≤ Δ.n := cond12_iff ⟨Δ.n, Nat.lt_succ_of_le hn⟩
  have c12' : k0_cond12 (BitVec.ofNat 32 Δ.n) = 1#1 ↔ 2 ≤ Δ.n + 1 := c12.trans (by constructor <;> omega)
  have m11 : ∀ h : k0_cond11 (BitVec.ofNat 32 Δ.n) = 1#1, (Δ.n - 2) % 2 = Δ.n % 2 := fun h => by have := c11.1 h; omega
  have m12 : ∀ h : k0_cond12 (BitVec.ofNat 32 Δ.n) = 1#1, (Δ.n - 1) % 2 = (Δ.n + 1) % 2 := fun h => by have := c12.1 h; omega
  have e18 : StC M Δ 17 c = iprop(SI M 1 c ∗ SI M 0 c ∗ TI M Δ (18 * 120) c ∗ bigSep (Finset.range 18) (SclK M Δ c) ∗ bigSep (Finset.Ico 19 18) (SclK M Δ c)) := rfl
  have eD : ∀ kv, WD M Δ kv (Δ.n + 1 - 1) c = bigSep (Finset.range Δ.n) (fun a => Wout M Δ kv c (Δ.WK a)) := fun _ => rfl
  rw [windows_split Δ (fun w => Win M 0 c w), windows_split Δ (fun w => Win M 1 c w), windows_split Δ (fun w => Wout M Δ 0 c w), windows_split Δ (fun w => Wout M Δ 1 c w),
    cc0_paged_kv_dequant_eq_skeleton]
  unfold cc0_paged_kv_dequant_skel Idle
  iintro ⟨⟨HP, ⟨%X, HK⟩, HR0, HR1, ⟨%Y, HZ⟩, HS, ⟨%Z, HT⟩, HA, HW0, HW1, Hz, HO⟩, ⟨HN0, HD0⟩, ⟨HN1, HD1⟩⟩ Hk
  iapply wpp_bind
  iapply (wpp_part85 M Δ _ (X := X) (Y := Y) (Z := Z)) $$ [HP HK HR0 HR1 HZ HS HT HA]
  · isplitl [HP]; · iexact HP
    isplitl [HK]; · iexact HK
    isplitl [HR0]; · iexact HR0
    isplitl [HR1]; · iexact HR1
    isplitl [HZ]; · iexact HZ
    isplitl [HS]; · iexact HS
    isplitl [HT]; · iexact HT
    iapply (At_start M Δ); iexact HA
  iintro ⟨HP, HL, HR0, HR1, HZ, HS⟩
  iapply wpp_fupd
  imod (zeros_start M Δ) $$ [HZ Hz HD0 HD1] with ⟨HZ, HZL⟩
  · isplitl [HZ]; · iexact HZ
    isplitl [Hz]; · iexact Hz
    isplitl [HD0]; · iexact HD0
    iexact HD1
  imodintro
  icases HP with ⟨HP, HN⟩
  iapply wpp_bind
  iapply (wpp_part86 M Δ _) $$ [HN HZ HS HO]
  · isplitl [HN]; · iexact HN
    isplitl [HZ]; · iexact HZ
    isplitl [HS]; · iexact HS
    iexact HO
  iintro ⟨HN, HZ, HS, HO⟩
  iapply wpp_bind
  iapply (wpp_part87 M Δ _) $$ [HS HO]
  · isplitl [HS]; · iexact HS
    iexact HO
  iintro HS
  iapply wpp_bind
  iapply (wpp_part88 M Δ _ _) $$ HS
  iintro HS
  iapply wpp_bind
  iapply (wpp_part89 M Δ _) $$ HS
  iintro HS
  iapply wpp_bind
  iapply (wpp_part90 M Δ _) $$ HS
  iintro HS
  iapply wpp_bind
  iapply (wpp_part91 M Δ _) $$ HS
  iintro HS
  iapply wpp_bind
  iapply (wpp_part92 M Δ _) $$ HS
  iintro HS
  iapply wpp_bind
  iapply (wpp_part93 M Δ _) $$ HS
  iintro HS
  iapply wpp_bind
  iapply (wpp_part94 M Δ _) $$ HS
  iintro ⟨HS, HO⟩
  iapply wpp_bind
  iapply (wpp_part95 M Δ _ _) $$ [HS HP HN HL HR0 HR1 HW0 HW1 HN0 HN1 HO]
  · isplitl [HS]; · iexact HS
    isplitl [HP HN HL]
    · isplitl [HP HN]
      · isplitl [HP]; · iexact HP
        iexact HN
      iexact HL
    isplitl [HR0 HW0 HN0]
    · iapply (One_start M Δ 0)
      isplitl [HR0]; · iexact HR0
      isplitl [HW0]; · iexact HW0
      iexact HN0
    isplitl [HR1 HW1 HN1]
    · iapply (One_start M Δ 1)
      isplitl [HR1]; · iexact HR1
      isplitl [HW1]; · iexact HW1
      iexact HN1
    iexact HO
  unfold One
  iintro %x ⟨HS, ⟨HP, HL⟩, ⟨HR0, ⟨HW0, HW0'⟩, HD0, -⟩, ⟨HR1, ⟨HW1, HW1'⟩, HD1, -⟩, HO⟩
  iapply (wait_two M Δ Δ.n c11
    (fun h => (sem2_eq M.wsem (kv := 0) (σ := (Δ.n - 2) % 2) (o_sgs hn 0 (k := 2) (by decide) (c11.1 h)) (Nat.mod_lt _ (by decide)) _ _).trans (congrArg (M.semW 0) (m11 h)))
    (fun h => (sem2_eq M.wsem (kv := 1) (σ := (Δ.n - 2) % 2) (o_sgs hn 1 (k := 2) (by decide) (c11.1 h)) (Nat.mod_lt _ (by decide)) _ _).trans (congrArg (M.semW 1) (m11 h)))) $$ [HW0 HD0 HW1 HD1 HO]
  · isplitl [HW0 HD0]
    · isplitl [HW0]; · iexact HW0
      iexact HD0
    isplitl [HW1 HD1]
    · isplitl [HW1]; · iexact HW1
      iexact HD1
    iexact HO
  iintro ⟨⟨HW0, HD0⟩, ⟨HW1, HD1⟩, HO⟩
  iapply (wait_two M Δ (Δ.n + 1) c12'
    (fun h => (sem2_eq M.wsem (kv := 0) (σ := (Δ.n - 1) % 2) (o_sgs hn 0 (k := 1) (by decide) (c12.1 h)) (Nat.mod_lt _ (by decide)) _ _).trans (congrArg (M.semW 0) (m12 h)))
    (fun h => (sem2_eq M.wsem (kv := 1) (σ := (Δ.n - 1) % 2) (o_sgs hn 1 (k := 1) (by decide) (c12.1 h)) (Nat.mod_lt _ (by decide)) _ _).trans (congrArg (M.semW 1) (m12 h)))) $$ [HW0' HD0 HW1' HD1 HO]
  · isplitl [HW0' HD0]
    · isplitl [HW0']; · iexact HW0'
      iexact HD0
    isplitl [HW1' HD1]
    · isplitl [HW1']; · iexact HW1'
      iexact HD1
    iexact HO
  iintro ⟨⟨HW0', HD0⟩, ⟨HW1', HD1⟩, HO⟩
  iapply (wpp_wait_zeros M Δ (chk19_holds (n_le Δ))) $$ [HZ HZL HO]
  · isplitl [HZ]; · iexact HZ
    isplitl [HZL]; · iexact HZL
    iexact HO
  iintro ⟨HZ, Hz, HE0, HE1, HO⟩
  iapply (wpp_for_none (der_trips (n_le Δ)))
  iapply wpp_ret
  iapply Hk
  rw [RSt_out M Δ 0 (Nat.lt_irrefl Δ.n), RSt_out M Δ 1 (Nat.lt_irrefl Δ.n), RSt_out M Δ 0 (show ¬ Δ.n + 1 < Δ.n by omega), RSt_out M Δ 1 (show ¬ Δ.n + 1 < Δ.n by omega)]
  ihave HL := (WL_any M Δ) $$ HL
  ihave HR0 := (two_slots (fun σ => RI M Δ 0 σ c) Δ.n) $$ HR0
  ihave HR1 := (two_slots (fun σ => RI M Δ 1 σ c) Δ.n) $$ HR1
  ihave HS := (Entails.of_eq e18) $$ HS
  icases HS with ⟨HS1, HS0, HT, HA, -⟩
  ihave HT := (TI_any M Δ) $$ HT
  isplitr [HD0 HD1 HE0 HE1]
  · isplitl [HP]; · iexact HP
    isplitl [HL]; · iexact HL
    isplitl [HR0]; · iexact HR0
    isplitl [HR1]; · iexact HR1
    isplitl [HZ]; · iexists _; iexact HZ
    isplitl [HS0 HS1]
    · isplitl [HS0]; · iexact HS0
      iexact HS1
    isplitl [HT]; · iexact HT
    isplitl [HA]; · iexact HA
    isplitl [HW0 HW0']
    · iapply (two_slots (fun σ => WI M 0 σ c) Δ.n)
      isplitl [HW0]; · iexact HW0
      iexact HW0'
    isplitl [HW1 HW1']
    · iapply (two_slots (fun σ => WI M 1 σ c) Δ.n)
      isplitl [HW1]; · iexact HW1
      iexact HW1'
    isplitl [Hz]; · iexact Hz
    iexact HO
  isplitl [HD0 HE0]
  · isplitl [HD0]; · iapply (Entails.of_eq (eD 0)); iexact HD0
    iexact HE0
  · isplitl [HD1]; · iapply (Entails.of_eq (eD 1)); iexact HD1
    iexact HE1

end Cert.Proof.K
-- ==== Proof.Start.lean ====
/- The region's resources, and the region from them to its results. -/
module

public import proofs.«01_k».proof.Proof.Body

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

local notation "V" => Elt Bits
local notation "𝕄" => MT nD τ sig Unit (Elt Bits) ℕ (Pipeline.UD sig nD τ) ℕ

variable (M : Mems) (Δ : Data) {c : Dev nD} {α : Type} {Q : α → sProp 𝕄}

section
variable {sp : Space} {s : Shape} {e : EltTy}

/-- The elements `I` of `m`, at some contents. -/
def anyAt (c : Dev nD) (m : Memref sig .tc sp s e) (I : Finset s.Idx) : sProp 𝕄 := iprop(∃ X, mpt c m I fullShare X)

theorem anyAt_union (m : Memref sig .tc sp s e) {I J : Finset s.Idx} (h : Disjoint I J) :
    anyAt c m (I ∪ J) = iprop(anyAt c m I ∗ anyAt c m J) := by
  classical
  have h1 : anyAt c m (I ∪ J) ⊢ iprop(anyAt c m I ∗ anyAt c m J) := by
    unfold anyAt
    iintro ⟨%X, H⟩
    ihave H := (Entails.of_eq (mpt_union m h)) $$ H
    icases H with ⟨HI, HJ⟩
    isplitl [HI]
    · iexists X; iexact HI
    · iexists X; iexact HJ
  have h2 : iprop(anyAt c m I ∗ anyAt c m J) ⊢ anyAt c m (I ∪ J) := by
    unfold anyAt
    iintro ⟨⟨%X, HI⟩, ⟨%Y, HJ⟩⟩
    iexists (fun i => if i ∈ I then X i else Y i)
    iapply (Entails.of_eq (mpt_union m h).symm)
    isplitl [HI]
    · iapply (Entails.of_eq (mpt_congr m fun i hi => (if_pos hi).symm)); iexact HI
    · iapply (Entails.of_eq (mpt_congr m fun i hi => (if_neg fun hx => (Finset.disjoint_left.1 h) hx hi).symm)); iexact HJ
  exact Entails.antisymm h1 h2

theorem anyAt_biUnion (m : Memref sig .tc sp s e) (K : ℕ → Finset s.Idx) (hK : ∀ a b, a ≠ b → Disjoint (K a) (K b)) (n : ℕ) :
    anyAt c m ((Finset.range (n + 1)).biUnion K) = bigSep (Finset.range (n + 1)) (fun t => anyAt c m (K t)) := by
  classical
  induction n with
  | zero =>
    rw [show Finset.range (0 + 1) = {0} from rfl, Finset.singleton_biUnion, BI.bigSep_singleton]
  | succ n ih =>
    rw [range_top (n + 1), Finset.range_add_one (n := n + 1), Finset.biUnion_insert, anyAt_union, ih]
    rw [Finset.disjoint_biUnion_right]
    intro b hb
    exact hK _ _ (Nat.ne_of_gt (Finset.mem_range.1 hb))

theorem owns_mpt (m : Memref sig .tc sp s e) (q : PosShare TreeShare) (X : s.Idx → Elt Bits e) :
    (owns (c : Thread nD τ) m q X : sProp 𝕄) = mpt c m Finset.univ q X := by
  have h1 : (owns (c : Thread nD τ) m q X : sProp 𝕄) ⊢ mpt c m Finset.univ q X := by
    unfold owns
    iintro ⟨%f, %hf, H⟩
    iapply (Entails.of_eq (mpt_of m Finset.univ q f X fun i _ => congrFun hf i))
    iexact H
  have h2 : mpt c m Finset.univ q X ⊢ (owns (c : Thread nD τ) m q X : sProp 𝕄) := by
    unfold owns
    iintro H
    iexists (put m X)
    isplitr
    · ipureintro; exact read_put m X
    · iexact H
  exact Entails.antisymm h1 h2

theorem anyAt_owns (m : Memref sig .tc sp s e) :
    (iprop(∃ X, owns (c : Thread nD τ) m fullShare X) : sProp 𝕄) = anyAt c m Finset.univ := by
  unfold anyAt
  exact congrArg _ (funext fun X => owns_mpt m fullShare X)
end

theorem bigSep_shift (a n : ℕ) (Φ : ℕ → sProp 𝕄) : bigSep (Finset.Ico a (a + n)) Φ = bigSep (Finset.range n) (fun i => Φ (a + i)) := by
  have h := Finset.map_add_left_Ico 0 n a
  rw [Nat.add_zero] at h
  rw [← h, BI.bigSep_map, Finset.range_eq_Ico]
  rfl

theorem bigSep_halves (n : ℕ) (Φ : ℕ → sProp 𝕄) : bigSep (Finset.range (n + n)) Φ = iprop(bigSep (Finset.range n) Φ ∗ bigSep (Finset.range n) (fun i => Φ (n + i))) := by
  rw [bigSep_range_Ico (Nat.le_add_right n n), bigSep_shift]

theorem pool_leaves (kv : Fin 2) : mpt c (M.pool kv) Finset.univ fullShare (Δ.P kv)
    = iprop(bigSep (Finset.range 8) (fun t => mpt c (M.pool kv) Finset.univ (qq 0 t) (Δ.P kv)) ∗ bigSep (Finset.range 8) (fun t => mpt c (M.pool kv) Finset.univ (qq 1 t) (Δ.P kv))) := by
  have h := ShareLeaves.pointsTo_leaves (Ix := Unit) (Name := ℕ) (U := Pipeline.UD sig nD τ) (Lvl := ℕ) (ℓ := (M.pool kv).view.loc (c : Thread nD τ)) (Finset.univ.map (M.pool kv).view.emb) (put (M.pool kv) (Δ.P kv)) 4 fullShare
  have h2 := bigSep_fin_range 16 (fun t => mpt c (M.pool kv) Finset.univ (ShareLeaves.leaf 4 fullShare (Fin.ofNat 16 t)) (Δ.P kv))
  have h3 := bigSep_halves 8 (fun t => mpt c (M.pool kv) Finset.univ (ShareLeaves.leaf 4 fullShare (Fin.ofNat 16 t)) (Δ.P kv))
  refine h.trans (Eq.trans (BI.bigSep_congr fun i _ => ?_) (h2.trans (h3.trans ?_)))
  · rw [show Fin.ofNat 16 i.val = i from Fin.ext (Nat.mod_eq_of_lt i.isLt)]
  · have e1 : ∀ t, qq 0 t = ShareLeaves.leaf 4 fullShare (Fin.ofNat 16 t) := fun t => by unfold qq; rw [Nat.zero_mul, Nat.zero_add]
    have e2 : ∀ t, qq 1 t = ShareLeaves.leaf 4 fullShare (Fin.ofNat 16 (8 + t)) := fun t => by unfold qq; rw [Nat.one_mul]
    simp only [e1, e2]

theorem pieceset_disj (kv σ : ℕ) (a b : ℕ) (h : a ≠ b) : Disjoint (pieceset kv σ a) (pieceset kv σ b) := by
  refine Finset.disjoint_left.2 fun i hi hj => h ?_
  simp only [pieceset, Finset.mem_filter] at hi hj
  omega

/-- The pages of one slot. -/
def pagesOf (kv σ : ℕ) : Finset S2x2x8x1728x128.Idx := (Finset.range 8).biUnion (pieceset kv σ)

theorem mem_pagesOf {kv σ : ℕ} (i : S2x2x8x1728x128.Idx) : i ∈ pagesOf kv σ ↔ (i 0).val = kv ∧ (i 1).val = σ := by
  have h : (i 2).val < 8 := (i 2).isLt
  simp only [pagesOf, pieceset, Finset.mem_biUnion, Finset.mem_range, Finset.mem_filter, Finset.mem_univ, true_and]
  constructor
  · rintro ⟨t, -, h0, h1, -⟩; exact ⟨h0, h1⟩
  · rintro ⟨h0, h1⟩; exact ⟨_, h, h0, h1, rfl⟩

theorem pages_all : anyAt c M.pages Finset.univ
    = iprop((anyAt c M.pages (pagesOf 0 0) ∗ anyAt c M.pages (pagesOf 0 1)) ∗ (anyAt c M.pages (pagesOf 1 0) ∗ anyAt c M.pages (pagesOf 1 1))) := by
  have e : (Finset.univ : Finset S2x2x8x1728x128.Idx) = (pagesOf 0 0 ∪ pagesOf 0 1) ∪ (pagesOf 1 0 ∪ pagesOf 1 1) := by
    ext i
    have h0 : (i 0).val < 2 := (i 0).isLt
    have h1 : (i 1).val < 2 := (i 1).isLt
    simp only [Finset.mem_univ, Finset.mem_union, mem_pagesOf, true_iff]
    omega
  have d : ∀ {a b : Finset S2x2x8x1728x128.Idx}, (∀ i, i ∈ a → i ∈ b → False) → Disjoint a b := fun h => Finset.disjoint_left.2 h
  rw [e, anyAt_union, anyAt_union, anyAt_union]
  · exact d fun i => by simp only [mem_pagesOf]; omega
  · exact d fun i => by simp only [mem_pagesOf]; omega
  · exact d fun i => by simp only [Finset.mem_union, mem_pagesOf]; omega

theorem mem_chset {kv σ : ℕ} (i : S2x2x108x128x128.Idx) : i ∈ chset kv σ ↔ (i 0).val = kv ∧ (i 1).val = σ := by
  simp only [chset, Finset.mem_filter, Finset.mem_univ, true_and]

theorem chunks_all : anyAt c M.chunks Finset.univ
    = iprop((anyAt c M.chunks (chset 0 0) ∗ anyAt c M.chunks (chset 0 1)) ∗ (anyAt c M.chunks (chset 1 0) ∗ anyAt c M.chunks (chset 1 1))) := by
  have e : (Finset.univ : Finset S2x2x108x128x128.Idx) = (chset 0 0 ∪ chset 0 1) ∪ (chset 1 0 ∪ chset 1 1) := by
    ext i
    have h0 : (i 0).val < 2 := (i 0).isLt
    have h1 : (i 1).val < 2 := (i 1).isLt
    simp only [Finset.mem_univ, Finset.mem_union, mem_chset, true_iff]
    omega
  have d : ∀ {a b : Finset S2x2x108x128x128.Idx}, (∀ i, i ∈ a → i ∈ b → False) → Disjoint a b := fun h => Finset.disjoint_left.2 h
  rw [e, anyAt_union, anyAt_union, anyAt_union]
  · exact d fun i => by simp only [mem_chset]; omega
  · exact d fun i => by simp only [mem_chset]; omega
  · exact d fun i => by simp only [Finset.mem_union, mem_chset]; omega

theorem stage_all : anyAt c M.stage Finset.univ = iprop(anyAt c M.stage (stgset 0) ∗ anyAt c M.stage (stgset 1)) := by
  have e : (Finset.univ : Finset S2x12x16x1280.Idx) = stgset 0 ∪ stgset 1 := by
    ext i
    have h0 : (i 0).val < 2 := (i 0).isLt
    simp only [stgset, Finset.mem_univ, Finset.mem_union, Finset.mem_filter, true_and, true_iff]
    omega
  rw [e, anyAt_union]
  refine Finset.disjoint_left.2 fun i => ?_
  simp only [stgset, Finset.mem_filter, Finset.mem_univ, true_and]
  omega

theorem scl_all (kv : Fin 2) : mpt c (M.scl kv) Finset.univ fullShare (Δ.SC kv) = bigSep (Finset.range 9) (Scl M Δ kv c) := by
  have e : (Finset.univ : Finset S108x16x1280.Idx) = (Finset.range 9).biUnion sclset := by
    ext i
    have h0 : (i 0).val < 108 := (i 0).isLt
    simp only [sclset, Finset.mem_univ, Finset.mem_biUnion, Finset.mem_range, Finset.mem_filter, true_and, true_iff]
    exact ⟨_, by omega, rfl⟩
  rw [e, mpt_biUnion]
  · rfl
  · intro a _ b _ h
    refine Finset.disjoint_left.2 fun i hi hj => h ?_
    simp only [sclset, Finset.mem_filter] at hi hj
    omega

theorem SclK_all : bigSep (Finset.range 18) (SclK M Δ c) = iprop(mpt c (M.scl 0) Finset.univ fullShare (Δ.SC 0) ∗ mpt c (M.scl 1) Finset.univ fullShare (Δ.SC 1)) := by
  rw [scl_all, scl_all]
  have h := bigSep_halves 9 (SclK M Δ c)
  have e1 : ∀ t ∈ Finset.range 9, SclK M Δ c t = Scl M Δ 0 c t := fun t ht => by
    have ht := Finset.mem_range.1 ht
    unfold SclK kvOf
    rw [Nat.div_eq_of_lt ht, Nat.mod_eq_of_lt ht]; rfl
  have e2 : ∀ t ∈ Finset.range 9, SclK M Δ c (9 + t) = Scl M Δ 1 c t := fun t ht => by
    have ht := Finset.mem_range.1 ht
    unfold SclK kvOf
    rw [show (9 + t) / 9 = 1 from by omega, show (9 + t) % 9 = t from by omega]; rfl
  rw [BI.bigSep_congr e1, BI.bigSep_congr e2] at h
  exact h

theorem win_univ : (Finset.univ : Finset S8x108x2048x128.Idx) = (Finset.range 128).biUnion winset := by
  ext i
  have h0 : (i 0).val < 8 := (i 0).isLt
  have h2 : (i 2).val < 2048 := (i 2).isLt
  simp only [winset, Finset.mem_univ, Finset.mem_biUnion, Finset.mem_range, Finset.mem_filter, true_and, true_iff]
  exact ⟨(i 0).val * 16 + (i 2).val / 128, by omega, by omega, by omega⟩

theorem win_disj (a b : ℕ) (h : a ≠ b) : Disjoint (winset a) (winset b) := by
  refine Finset.disjoint_left.2 fun i hi hj => h ?_
  simp only [winset, Finset.mem_filter] at hi hj
  omega

theorem out_in (kv : Fin 2) : anyAt c (M.out kv) Finset.univ = bigSep (Finset.range 128) (fun w => Win M kv c w) := by
  rw [win_univ]
  exact anyAt_biUnion (M.out kv) winset win_disj 127

theorem out_out (kv : Fin 2) : mpt c (M.out kv) Finset.univ fullShare (Δ.TO kv) = bigSep (Finset.range 128) (fun w => Wout M Δ kv c w) := by
  rw [win_univ, mpt_biUnion]
  · rfl
  · exact fun a _ b _ h => win_disj a b h

theorem slots_all (kv : Fin 2) (σ : ℕ) : bigSep (Finset.range 8) (Slot M Δ kv σ c)
    = iprop(bigSep (Finset.range 8) (fun t => mpt c (M.pool kv) Finset.univ (qq σ t) (Δ.P kv)) ∗ anyAt c M.pages (pagesOf kv σ)) := by
  have e := anyAt_biUnion (c := c) M.pages (pieceset kv σ) (pieceset_disj kv σ) 7
  rw [show anyAt c M.pages (pagesOf kv σ) = _ from e]
  exact BI.bigSep_sep _ _ _

/-- The region's own buffers and cells, and the operands it reads. -/
def Raw (c : Dev nD) : sProp 𝕄 :=
  iprop((PTm M Δ c ∗ LNm M Δ c)
    ∗ (anyAt c M.pages Finset.univ ∗ anyAt c M.chunks Finset.univ ∗ anyAt c M.tables Finset.univ ∗ anyAt c M.stage Finset.univ ∗ anyAt c M.zeros Finset.univ ∗ anyAt c M.work Finset.univ)
    ∗ ((semVal ((c : Thread nD τ), .dma (M.semR 0 0)) 0 ∗ semVal ((c : Thread nD τ), .dma (M.semR 0 1)) 0) ∗ (semVal ((c : Thread nD τ), .dma (M.semR 1 0)) 0 ∗ semVal ((c : Thread nD τ), .dma (M.semR 1 1)) 0))
    ∗ ((semVal ((c : Thread nD τ), .dma (M.semW 0 0)) 0 ∗ semVal ((c : Thread nD τ), .dma (M.semW 0 1)) 0) ∗ (semVal ((c : Thread nD τ), .dma (M.semW 1 0)) 0 ∗ semVal ((c : Thread nD τ), .dma (M.semW 1 1)) 0))
    ∗ (semVal ((c : Thread nD τ), .dma (M.semS 0)) 0 ∗ semVal ((c : Thread nD τ), .dma (M.semS 1)) 0)
    ∗ semVal ((c : Thread nD τ), .dma M.zsem.sem) 0
    ∗ (mpt c (M.pool 0) Finset.univ fullShare (Δ.P 0) ∗ mpt c (M.pool 1) Finset.univ fullShare (Δ.P 1))
    ∗ (mpt c (M.scl 0) Finset.univ fullShare (Δ.SC 0) ∗ mpt c (M.scl 1) Finset.univ fullShare (Δ.SC 1))
    ∗ OW c)

theorem Raw_Idle : Raw M Δ c ⊢ Idle M Δ c := by
  unfold Raw Idle RI SI WI
  rw [pages_all, chunks_all, stage_all, pool_leaves, pool_leaves, SclK_all, slots_all, slots_all, slots_all, slots_all]
  unfold anyAt
  iintro ⟨HP, ⟨⟨⟨G00, G01⟩, ⟨G10, G11⟩⟩, ⟨⟨C00, C01⟩, ⟨C10, C11⟩⟩, HT, ⟨S0, S1⟩, HZ, HK⟩, ⟨⟨r00, r01⟩, ⟨r10, r11⟩⟩, ⟨⟨w00, w01⟩, ⟨w10, w11⟩⟩, ⟨s0, s1⟩, Hz, ⟨⟨P00, P01⟩, ⟨P10, P11⟩⟩, HA, HO⟩
  isplitl [HP]; · iexact HP
  isplitl [HK]; · iexact HK
  isplitl [G00 P00 r00 G01 P01 r01]
  · isplitl [G00 P00 r00]
    · isplitl [G00 P00]
      · isplitl [P00]; · iexact P00
        iexact G00
      iexact r00
    · isplitl [G01 P01]
      · isplitl [P01]; · iexact P01
        iexact G01
      iexact r01
  isplitl [G10 P10 r10 G11 P11 r11]
  · isplitl [G10 P10 r10]
    · isplitl [G10 P10]
      · isplitl [P10]; · iexact P10
        iexact G10
      iexact r10
    · isplitl [G11 P11]
      · isplitl [P11]; · iexact P11
        iexact G11
      iexact r11
  isplitl [HZ]; · iexact HZ
  isplitl [S0 s0 S1 s1]
  · isplitl [S0 s0]
    · isplitl [S0]; · iexact S0
      iexact s0
    · isplitl [S1]; · iexact S1
      iexact s1
  isplitl [HT]; · iexact HT
  isplitl [HA]; · iexact HA
  isplitl [C00 w00 C01 w01]
  · isplitl [C00 w00]
    · isplitl [C00]; · iexact C00
      iexact w00
    · isplitl [C01]; · iexact C01
      iexact w01
  isplitl [C10 w10 C11 w11]
  · isplitl [C10 w10]
    · isplitl [C10]; · iexact C10
      iexact w10
    · isplitl [C11]; · iexact C11
      iexact w11
  isplitl [Hz]; · iexact Hz
  iexact HO

theorem Idle_Raw : Idle M Δ c ⊢ Raw M Δ c := by
  unfold Raw Idle RI SI WI
  rw [pages_all, chunks_all, stage_all, pool_leaves, pool_leaves, SclK_all, slots_all, slots_all, slots_all, slots_all]
  unfold anyAt
  iintro ⟨HP, HK, ⟨⟨⟨P00, G00⟩, r00⟩, ⟨⟨P01, G01⟩, r01⟩⟩, ⟨⟨⟨P10, G10⟩, r10⟩, ⟨⟨P11, G11⟩, r11⟩⟩, HZ, ⟨⟨S0, s0⟩, ⟨S1, s1⟩⟩, HT, HA, ⟨⟨C00, w00⟩, ⟨C01, w01⟩⟩, ⟨⟨C10, w10⟩, ⟨C11, w11⟩⟩, Hz, HO⟩
  isplitl [HP]; · iexact HP
  isplitl [G00 G01 G10 G11 C00 C01 C10 C11 HT S0 S1 HZ HK]
  · isplitl [G00 G01 G10 G11]
    · isplitl [G00 G01]
      · isplitl [G00]; · iexact G00
        iexact G01
      · isplitl [G10]; · iexact G10
        iexact G11
    isplitl [C00 C01 C10 C11]
    · isplitl [C00 C01]
      · isplitl [C00]; · iexact C00
        iexact C01
      · isplitl [C10]; · iexact C10
        iexact C11
    isplitl [HT]; · iexact HT
    isplitl [S0 S1]
    · isplitl [S0]; · iexact S0
      iexact S1
    isplitl [HZ]; · iexact HZ
    iexact HK
  isplitl [r00 r01 r10 r11]
  · isplitl [r00 r01]
    · isplitl [r00]; · iexact r00
      iexact r01
    · isplitl [r10]; · iexact r10
      iexact r11
  isplitl [w00 w01 w10 w11]
  · isplitl [w00 w01]
    · isplitl [w00]; · iexact w00
      iexact w01
    · isplitl [w10]; · iexact w10
      iexact w11
  isplitl [s0 s1]
  · isplitl [s0]; · iexact s0
    iexact s1
  isplitl [Hz]; · iexact Hz
  isplitl [P00 P01 P10 P11]
  · isplitl [P00 P01]
    · isplitl [P00]; · iexact P00
      iexact P01
    · isplitl [P10]; · iexact P10
      iexact P11
  isplitl [HA]; · iexact HA
  iexact HO

/-- The region, from its operands and its own buffers to the two results. -/
theorem wpp_kernel (Q' : PUnit → sProp 𝕄) :
    iprop(Raw M Δ c ∗ anyAt c (M.out 0) Finset.univ ∗ anyAt c (M.out 1) Finset.univ)
      ⊢ iprop((iprop(Raw M Δ c ∗ mpt c (M.out 0) Finset.univ fullShare (Δ.TO 0) ∗ mpt c (M.out 1) Finset.univ fullShare (Δ.TO 1)) -∗ Q' ⟨⟩)
        -∗ wpp c (cc0_paged_kv_dequant M.pt M.hpt M.len M.hlen (M.pool 0) (M.hpool 0) (M.pool 1) (M.hpool 1) (M.scl 0) (M.hscl 0) (M.scl 1) (M.hscl 1) (M.out 0) (M.hout 0) (M.out 1) (M.hout 1) M.work M.hwork M.pages M.hpages M.chunks M.hchunks M.tables M.htables M.stage M.hstage M.zeros M.hzeros M.rsem M.wsem M.ssem M.zsem) Q') := by
  rw [out_in, out_in, out_out, out_out]
  iintro ⟨HR, H0, H1⟩ Hk
  iapply (wpp_region M Δ _) $$ [HR H0 H1]
  · isplitl [HR]; · iapply (Raw_Idle M Δ); iexact HR
    isplitl [H0]; · iexact H0
    iexact H1
  iintro ⟨HR, H0, H1⟩
  iapply Hk
  isplitl [HR]; · iapply (Idle_Raw M Δ); iexact HR
  isplitl [H0]; · iexact H0
  iexact H1

end Cert.Proof.K
-- ==== Proof.Launch.lean ====
/- The kernel's run: from the region's triple to what every buffer holds at the end. -/
module

public import proofs.«01_k».proof.Proof.Start
public import proofs.«01_k».proof.Proof.Gen.Kernel.Launch
public import proofs.«01_k».proof.Proof.Gen.Kernel.Points
public import proofs.«01_k».proof.Proof.Gen.Kernel.Frame
public import Idealize.ShloMosaic.Lib.Pipeline.FrameSuffixV
public import Idealize.ShloMosaic.Lib.Pipeline.FrameBody

@[expose] public section

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation cellOf)

local notation "𝕄" => MT nD τ sig Unit (Elt Bits) ℕ (Pipeline.UD sig nD τ) ℕ

variable (m : (ℓ : Loc nD τ sig) → Buf (Elt Bits) ℓ) (ρ : Dev nD → PrngReg)
  (hp : ∀ (c : Dev nD) (i : S8x128.Idx), BitVec.toNat (w := 32) (m ((c : Thread nD τ).loc main_arg4) i) < 1280)

/-- The operands as the region finds them. -/
def dat (c : Dev nD) : Data where
  PT := m ((c : Thread nD τ).loc main_arg4)
  LEN := m ((c : Thread nD τ).loc main_arg5)
  P := fun | 0 => V m c main_v1 | 1 => V m c main_v3
  SC := fun | 0 => V m c main_v4 | 1 => V m c main_v5
  hPT := hp c

/-- The buffers the region runs on. -/
def mems (t : Fin cfg0.N) : Mems where
  pt := win0_0.stage (cfg0.slots t 0)
  hpt := hstage0_0 0
  len := win0_1.stage (cfg0.slots t 1)
  hlen := hstage0_1 0
  pool := fun | 0 => Memref.whole main_v1 | 1 => Memref.whole main_v3
  hpool := fun | 0 => Memref.isWhole_whole _ | 1 => Memref.isWhole_whole _
  scl := fun | 0 => Memref.whole main_v4 | 1 => Memref.whole main_v5
  hscl := fun | 0 => Memref.isWhole_whole _ | 1 => Memref.isWhole_whole _
  out := fun | 0 => Memref.whole main_v6_0 | 1 => Memref.whole main_v6_1
  hout := fun | 0 => Memref.isWhole_whole _ | 1 => Memref.isWhole_whole _
  work := Memref.whole cc0_scratch0
  hwork := Memref.isWhole_whole _
  pages := Memref.whole cc0_scratch1
  hpages := Memref.isWhole_whole _
  chunks := Memref.whole cc0_scratch2
  hchunks := Memref.isWhole_whole _
  tables := Memref.whole cc0_scratch3
  htables := Memref.isWhole_whole _
  stage := Memref.whole cc0_scratch4
  hstage := Memref.isWhole_whole _
  zeros := Memref.whole cc0_scratch5
  hzeros := Memref.isWhole_whole _
  rsem := cc0_scratch6
  wsem := cc0_scratch7
  ssem := cc0_scratch8
  zsem := cc0_scratch9
  credit := rfl

/-- The region's own semaphores. -/
abbrev osem0 : Fin 11 → SemLoc sig := fun j =>
  (![SemLoc.dma 2, SemLoc.dma 3, SemLoc.dma 4, SemLoc.dma 5, SemLoc.dma 6, SemLoc.dma 7, SemLoc.dma 8, SemLoc.dma 9, SemLoc.dma 10, SemLoc.dma 11, SemLoc.dma 12] : Fin 11 → SemLoc sig) j
theorem ownSemFacts0 : Pipeline.OwnSemFacts spec0 osem0 := by decide

/-- One of them at zero. -/
abbrev sz (c : Dev nD) (s : DmaSem sig) : sProp 𝕄 := semVal ((c : Thread nD τ), SemLoc.dma s) 0

theorem ownSems00_eq (c : Dev nD) :
    (Pipeline.ownSems0 (Ix := Unit) (Name := ℕ) (U := Pipeline.UD sig nD τ) (Lvl := ℕ) (Val := Elt Bits) (τ := τ) osem0 c : sProp 𝕄)
      = iprop(sz c 2 ∗ sz c 3 ∗ sz c 4 ∗ sz c 5 ∗ sz c 6 ∗ sz c 7 ∗ sz c 8 ∗ sz c 9 ∗ sz c 10 ∗ sz c 11 ∗ sz c 12) := by
  rw [Pipeline.ownSems0_eq_of_list c osem0 [0, 1, 2, 3, 4, 5, 6, 7, 8, 9, 10] (by decide) (by decide)]; rfl

theorem sems_eq (t : Fin cfg0.N) :
    (mems t).semR 0 0 = 2 ∧ (mems t).semR 0 1 = 3 ∧ (mems t).semR 1 0 = 4 ∧ (mems t).semR 1 1 = 5
      ∧ (mems t).semW 0 0 = 6 ∧ (mems t).semW 0 1 = 7 ∧ (mems t).semW 1 0 = 8 ∧ (mems t).semW 1 1 = 9
      ∧ (mems t).semS 0 = 10 ∧ (mems t).semS 1 = 11 ∧ (mems t).zsem.sem = 12 := by
  have h : ((cc0_scratch6.ix (ix2 0 (Fin.ofNat 2 0)) : DmaSem sig) = 2 ∧ (cc0_scratch6.ix (ix2 0 (Fin.ofNat 2 1)) : DmaSem sig) = 3
      ∧ (cc0_scratch6.ix (ix2 1 (Fin.ofNat 2 0)) : DmaSem sig) = 4 ∧ (cc0_scratch6.ix (ix2 1 (Fin.ofNat 2 1)) : DmaSem sig) = 5
      ∧ (cc0_scratch7.ix (ix2 0 (Fin.ofNat 2 0)) : DmaSem sig) = 6 ∧ (cc0_scratch7.ix (ix2 0 (Fin.ofNat 2 1)) : DmaSem sig) = 7
      ∧ (cc0_scratch7.ix (ix2 1 (Fin.ofNat 2 0)) : DmaSem sig) = 8 ∧ (cc0_scratch7.ix (ix2 1 (Fin.ofNat 2 1)) : DmaSem sig) = 9
      ∧ (cc0_scratch8.ix (ix1 (Fin.ofNat 2 0)) : DmaSem sig) = 10 ∧ (cc0_scratch8.ix (ix1 (Fin.ofNat 2 1)) : DmaSem sig) = 11
      ∧ cc0_scratch9.sem = 12) := by decide
  exact h

/-- The buffers the region reads in place. -/
def H0 : Finset (Ref sig .tc) := {main_v1, main_v3, main_v4, main_v5}
theorem H0_sub : H0 ⊆ Pipeline.restRefs sig spec0 := by decide
/-- The buffers it writes in place. -/
def R0 : Finset (Ref sig .tc) := {main_v6_0, main_v6_1}
theorem R0_sub : R0 ⊆ Pipeline.restRefs sig spec0 \ H0 := by decide

/-- What the region leaves in the buffers it writes. -/
def G (c : Dev nD) : (b : Ref sig .tc) → Buf (Elt Bits) ((c : Thread nD τ).loc b) :=
  Function.update (Function.update (V m c) main_v6_0 ((dat m hp c).TO 0)) main_v6_1 ((dat m hp c).TO 1)
theorem G_0 (c : Dev nD) : G m hp c main_v6_0 = (dat m hp c).TO 0 := by
  unfold G; rw [Function.update_of_ne (by decide), Function.update_self]
theorem G_1 (c : Dev nD) : G m hp c main_v6_1 = (dat m hp c).TO 1 := by
  unfold G; rw [Function.update_self]

/-- A whole buffer at contents. -/
abbrev at' (c : Dev nD) (b : Ref sig .tc) (f : Buf (Elt Bits) ((c : Thread nD τ).loc b)) : sProp 𝕄 := ((c : Thread nD τ).loc b) ↦{fullShare} f

theorem mpt_whole (c : Dev nD) (b : Ref sig .tc) (f) :
    mpt c (Memref.whole b) Finset.univ fullShare f = at' c b f :=
  (owns_mpt (c := c) (Memref.whole b) fullShare f).symm.trans (owns_whole (c : Thread nD τ) b fullShare f)

theorem anyAt_whole (c : Dev nD) (b : Ref sig .tc) : anyAt c (Memref.whole b) Finset.univ = iprop(∃ f, at' c b f) := by
  unfold anyAt
  exact congrArg _ (funext fun f => mpt_whole c b f)

theorem H0_eq (c : Dev nD) :
    (bigSep H0 (fun b => ((c : Thread nD τ).loc b) ↦{fullShare} V m c b) : sProp 𝕄)
      = iprop(at' c main_v1 (V m c main_v1) ∗ at' c main_v3 (V m c main_v3) ∗ at' c main_v4 (V m c main_v4) ∗ at' c main_v5 (V m c main_v5)) := by
  rw [BI.bigSep_eq_bigSepL_of_eq [main_v1, main_v3, main_v4, main_v5] (by decide) (by decide)]; rfl

theorem R0_eq (c : Dev nD) (g : (b : Ref sig .tc) → Buf (Elt Bits) ((c : Thread nD τ).loc b)) :
    (bigSep R0 (fun b => ((c : Thread nD τ).loc b) ↦{fullShare} g b) : sProp 𝕄)
      = iprop(at' c main_v6_0 (g main_v6_0) ∗ at' c main_v6_1 (g main_v6_1)) := by
  rw [BI.bigSep_eq_bigSepL_of_eq [main_v6_0, main_v6_1] (by decide) (by decide)]; rfl

/-- The invariant's part with the written buffers at `g`. -/
theorem Phi_eq (c : Dev nD) (g : (c : Dev nD) → (b : Ref sig .tc) → Buf (Elt Bits) ((c : Thread nD τ).loc b)) :
    (Pipeline.ΦDRV osem0 spec0 H0 R0 (V m) g c : sProp 𝕄)
      = iprop(((∃ f, at' c cc0_scratch1 f) ∗ (∃ f, at' c cc0_scratch2 f) ∗ (∃ f, at' c cc0_scratch3 f) ∗ (∃ f, at' c cc0_scratch4 f) ∗ (∃ f, at' c cc0_scratch5 f) ∗ (∃ f, at' c cc0_scratch0 f))
        ∗ (sz c 2 ∗ sz c 3 ∗ sz c 4 ∗ sz c 5 ∗ sz c 6 ∗ sz c 7 ∗ sz c 8 ∗ sz c 9 ∗ sz c 10 ∗ sz c 11 ∗ sz c 12)
        ∗ (at' c main_v1 (V m c main_v1) ∗ at' c main_v3 (V m c main_v3) ∗ at' c main_v4 (V m c main_v4) ∗ at' c main_v5 (V m c main_v5))
        ∗ (at' c main_v6_0 (g c main_v6_0) ∗ at' c main_v6_1 (g c main_v6_1))) := by
  unfold Pipeline.ΦDRV
  rw [scopedRest0_eq, ownSems00_eq, H0_eq m c, R0_eq]

/-- The region's operands and scratch, from the staged words and the invariant's part. -/
theorem Raw_eq (c : Dev nD) (t : Fin cfg0.N) :
    Raw (mems t) (dat m hp c) c
      = iprop((PTm (mems t) (dat m hp c) c ∗ LNm (mems t) (dat m hp c) c)
        ∗ ((∃ f, at' c cc0_scratch1 f) ∗ (∃ f, at' c cc0_scratch2 f) ∗ (∃ f, at' c cc0_scratch3 f) ∗ (∃ f, at' c cc0_scratch4 f) ∗ (∃ f, at' c cc0_scratch5 f) ∗ (∃ f, at' c cc0_scratch0 f))
        ∗ ((sz c 2 ∗ sz c 3) ∗ (sz c 4 ∗ sz c 5)) ∗ ((sz c 6 ∗ sz c 7) ∗ (sz c 8 ∗ sz c 9)) ∗ (sz c 10 ∗ sz c 11) ∗ sz c 12
        ∗ (at' c main_v1 (V m c main_v1) ∗ at' c main_v3 (V m c main_v3)) ∗ (at' c main_v4 (V m c main_v4) ∗ at' c main_v5 (V m c main_v5)) ∗ OW c) := by
  obtain ⟨e0, e1, e2, e3, e4, e5, e6, e7, e8, e9, e10⟩ := sems_eq t
  unfold Raw
  rw [e0, e1, e2, e3, e4, e5, e6, e7, e8, e9, e10]
  rw [show anyAt c (mems t).pages Finset.univ = _ from anyAt_whole c cc0_scratch1, show anyAt c (mems t).chunks Finset.univ = _ from anyAt_whole c cc0_scratch2,
    show anyAt c (mems t).tables Finset.univ = _ from anyAt_whole c cc0_scratch3, show anyAt c (mems t).stage Finset.univ = _ from anyAt_whole c cc0_scratch4,
    show anyAt c (mems t).zeros Finset.univ = _ from anyAt_whole c cc0_scratch5, show anyAt c (mems t).work Finset.univ = _ from anyAt_whole c cc0_scratch0,
    show mpt c ((mems t).pool 0) Finset.univ fullShare ((dat m hp c).P 0) = _ from mpt_whole c main_v1 _, show mpt c ((mems t).pool 1) Finset.univ fullShare ((dat m hp c).P 1) = _ from mpt_whole c main_v3 _,
    show mpt c ((mems t).scl 0) Finset.univ fullShare ((dat m hp c).SC 0) = _ from mpt_whole c main_v4 _, show mpt c ((mems t).scl 1) Finset.univ fullShare ((dat m hp c).SC 1) = _ from mpt_whole c main_v5 _]
  rfl

/-- The proof's data for the one region. -/
def dats (_ : Fin 1) (c : Dev nD) : Dat τ (Elt Bits) Unit ℕ (Pipeline.UD sig nD τ) ℕ cfg0 c where
  A w := V m c (Pipeline.arrRef spec0 w)
  after w t := match w with
    | ⟨0, _⟩ => iblk m c 0 t
    | ⟨1, _⟩ => iblk m c 1 t
  Φ k := Pipeline.ΦDRV osem0 spec0 H0 R0 (V m) (if k.val = 0 then V m else G m hp) c
  q _ := fullShare
  owed _ := 0

theorem A_eq (c : Dev nD) (w : Fin cfg0.W) : (dats m hp 0 c).A w = V m c (Pipeline.arrRef spec0 w) := by
  dsimp only [dats]

theorem before_0 {c : Dev nD} (t : Fin cfg0.N) (d) : (dats m hp 0 c).before 0 t d = iblk m c 0 t :=
  ((dats m hp 0 c).before_in_eq_fetched 0 rfl (fun _ => rfl) (fun _ _ _ => rfl) (fun t => rfl) t d).trans rfl
theorem before_1 {c : Dev nD} (t : Fin cfg0.N) (d) : (dats m hp 0 c).before 1 t d = iblk m c 1 t :=
  ((dats m hp 0 c).before_in_eq_fetched 1 rfl (fun _ => rfl) (fun _ _ _ => rfl) (fun t => rfl) t d).trans rfl

theorem iblk_0 (c : Dev nD) (t : Fin cfg0.N) : iblk m c 0 t = m ((c : Thread nD τ).loc main_arg4) := by
  rw [← V_main_arg4 m c, fin_N0 t]
  funext i
  unfold iblk
  exact congrArg (V m c main_arg4) (funext fun a => Fin.ext (by fin_cases a <;> exact (Nat.zero_add _).trans (Nat.one_mul _)))
theorem iblk_1 (c : Dev nD) (t : Fin cfg0.N) : iblk m c 1 t = m ((c : Thread nD τ).loc main_arg5) := by
  rw [← V_main_arg5 m c, fin_N0 t]
  funext i
  unfold iblk
  exact congrArg (V m c main_arg5) (funext fun a => Fin.ext (by fin_cases a <;> exact (Nat.zero_add _).trans (Nat.one_mul _)))

def bodyPre (c : Dev nD) (t : Fin cfg0.N) : sProp 𝕄 :=
  iprop((dats m hp 0 c).Φ t.castSucc ∗ (dats m hp 0 c).owesAt () t.castSucc
    ∗ (∃ d, owns (c : Thread nD τ) (mems t).pt fullShare ((dats m hp 0 c).before 0 t d))
    ∗ (∃ d, owns (c : Thread nD τ) (mems t).len fullShare ((dats m hp 0 c).before 1 t d)))
def bodyPost (c : Dev nD) (t : Fin cfg0.N) : sProp 𝕄 :=
  iprop((dats m hp 0 c).Φ t.succ ∗ (dats m hp 0 c).owesAt () t.succ
    ∗ owns (c : Thread nD τ) (mems t).pt fullShare ((dats m hp 0 c).after 0 t)
    ∗ owns (c : Thread nD τ) (mems t).len fullShare ((dats m hp 0 c).after 1 t))

theorem own_pt (c : Dev nD) (t : Fin cfg0.N) : (owns (c : Thread nD τ) (mems t).pt fullShare (iblk m c 0 t) : sProp 𝕄) = PTm (mems t) (dat m hp c) c :=
  (congrArg (owns (c : Thread nD τ) (mems t).pt fullShare) (iblk_0 m c t)).trans (owns_mpt (c := c) (mems t).pt fullShare _)
theorem own_len (c : Dev nD) (t : Fin cfg0.N) : (owns (c : Thread nD τ) (mems t).len fullShare (iblk m c 1 t) : sProp 𝕄) = LNm (mems t) (dat m hp c) c :=
  (congrArg (owns (c : Thread nD τ) (mems t).len fullShare) (iblk_1 m c t)).trans (owns_mpt (c := c) (mems t).len fullShare _)

theorem Phi_first (c : Dev nD) (t : Fin cfg0.N) : (dats m hp 0 c).Φ t.castSucc = Pipeline.ΦDRV osem0 spec0 H0 R0 (V m) (V m) c := by
  have e : (if t.castSucc.val = 0 then V m else G m hp) = V m := if_pos (by rw [fin_N0 t]; rfl)
  exact congrArg (fun g => Pipeline.ΦDRV osem0 spec0 H0 R0 (V m) g c) e
theorem Phi_second (c : Dev nD) (t : Fin cfg0.N) : (dats m hp 0 c).Φ t.succ = Pipeline.ΦDRV osem0 spec0 H0 R0 (V m) (G m hp) c := by
  have e : (if t.succ.val = 0 then V m else G m hp) = G m hp := if_neg (Nat.succ_ne_zero _)
  exact congrArg (fun g => Pipeline.ΦDRV osem0 spec0 H0 R0 (V m) g c) e

theorem sound_body (c : Dev nD) (t : Fin cfg0.N) :
    bodyPre m hp c t ⊢ wp frame (wpE (defs₀ (F := Bits)) Variants.none c none) Set.univ (bodyAt0 t) (fun _ => bodyPost m hp c t) := by
  unfold bodyPre bodyPost
  rw [Phi_first, Phi_second, Phi_eq, Phi_eq, G_0, G_1]
  have hw := wpp_kernel (c := c) (mems t) (dat m hp c) (fun _ => bodyPost m hp c t)
  rw [Raw_eq m hp c t, show anyAt c ((mems t).out 0) Finset.univ = _ from anyAt_whole c main_v6_0, show anyAt c ((mems t).out 1) Finset.univ = _ from anyAt_whole c main_v6_1,
    show mpt c ((mems t).out 0) Finset.univ fullShare ((dat m hp c).TO 0) = _ from mpt_whole c main_v6_0 _, show mpt c ((mems t).out 1) Finset.univ fullShare ((dat m hp c).TO 1) = _ from mpt_whole c main_v6_1 _] at hw
  unfold bodyPost at hw
  rw [Phi_second, Phi_eq, G_0, G_1] at hw
  unfold Dat.owesAt Pipeline.owesWithin at hw ⊢
  rw [show (dats m hp 0 c).owed t.succ = 0 from rfl] at hw
  rw [show (dats m hp 0 c).owed t.castSucc = 0 from rfl, show (dats m hp 0 c).owed t.succ = 0 from rfl]
  rw [show (dats m hp 0 c).after 0 t = iblk m c 0 t from rfl, show (dats m hp 0 c).after 1 t = iblk m c 1 t from rfl, own_pt m hp, own_len m hp] at hw ⊢
  iintro ⟨⟨HS, ⟨s2, s3, s4, s5, s6, s7, s8, s9, s10, s11, s12⟩, ⟨P0, P1, C0, C1⟩, ⟨O0, O1⟩⟩, ⟨%W, -, HW⟩, ⟨%d0, H0⟩, ⟨%d1, H1⟩⟩
  ihave H0 := (Entails.of_eq ((congrArg (owns (c : Thread nD τ) (mems t).pt fullShare) (before_0 m hp t d0)).trans (own_pt m hp c t))) $$ H0
  ihave H1 := (Entails.of_eq ((congrArg (owns (c : Thread nD τ) (mems t).len fullShare) (before_1 m hp t d1)).trans (own_len m hp c t))) $$ H1
  iapply hw $$ [HS s2 s3 s4 s5 s6 s7 s8 s9 s10 s11 s12 P0 P1 C0 C1 O0 O1 HW H0 H1]
  · isplitl [HS s2 s3 s4 s5 s6 s7 s8 s9 s10 s11 s12 P0 P1 C0 C1 HW H0 H1]
    · isplitl [H0 H1]
      · isplitl [H0]; · iexact H0
        iexact H1
      isplitl [HS]; · iexact HS
      isplitl [s2 s3 s4 s5]
      · isplitl [s2 s3]
        · isplitl [s2]; · iexact s2
          iexact s3
        isplitl [s4]; · iexact s4
        iexact s5
      isplitl [s6 s7 s8 s9]
      · isplitl [s6 s7]
        · isplitl [s6]; · iexact s6
          iexact s7
        isplitl [s8]; · iexact s8
        iexact s9
      isplitl [s10 s11]
      · isplitl [s10]; · iexact s10
        iexact s11
      isplitl [s12]; · iexact s12
      isplitl [P0 P1]
      · isplitl [P0]; · iexact P0
        iexact P1
      isplitl [C0 C1]
      · isplitl [C0]; · iexact C0
        iexact C1
      unfold OW
      iexists W; iexact HW
    isplitl [O0]
    · iexists _; iexact O0
    iexists _; iexact O1
  unfold OW
  iintro ⟨⟨⟨H0, H1⟩, HS, ⟨⟨s2, s3⟩, ⟨s4, s5⟩⟩, ⟨⟨s6, s7⟩, ⟨s8, s9⟩⟩, ⟨s10, s11⟩, s12, ⟨P0, P1⟩, ⟨C0, C1⟩, ⟨%W', HW⟩⟩, O0, O1⟩
  isplitl [HS s2 s3 s4 s5 s6 s7 s8 s9 s10 s11 s12 P0 P1 C0 C1 O0 O1]
  · isplitl [HS]; · iexact HS
    isplitl [s2 s3 s4 s5 s6 s7 s8 s9 s10 s11 s12]
    · isplitl [s2]; · iexact s2
      isplitl [s3]; · iexact s3
      isplitl [s4]; · iexact s4
      isplitl [s5]; · iexact s5
      isplitl [s6]; · iexact s6
      isplitl [s7]; · iexact s7
      isplitl [s8]; · iexact s8
      isplitl [s9]; · iexact s9
      isplitl [s10]; · iexact s10
      isplitl [s11]; · iexact s11
      iexact s12
    isplitl [P0 P1 C0 C1]
    · isplitl [P0]; · iexact P0
      isplitl [P1]; · iexact P1
      isplitl [C0]; · iexact C0
      iexact C1
    isplitl [O0]; · iexact O0
    iexact O1
  isplitl [HW]
  · iexists W'
    isplitr
    · ipureintro; exact fun _ _ => Or.inl trivial
    iexact HW
  isplitl [H0]; · iexact H0
  iexact H1

theorem defs₀_row (t : Fin cfg0.N) :
    defs₀ (F := Bits) .tc cfg0.body (cfg0.bodyArgs t (cfg0.slots t)) = bodyAt0 t := by
  unfold defs₀; rw [Defs.onTc_tc]

theorem body_obligation (c : Dev nD) : BodyObligation (dats m hp 0 c) (defs₀ (F := Bits)) Variants.none () Set.univ := fun t => by
  rw [bigSep_W0, bigSep_W0, defs₀_row]
  exact triple_restated (sound_body m hp c t) rfl .rfl fun _ => .rfl

set_option maxHeartbeats 800000 in
theorem hmain' (𝒱₀ : Variants) : Pipeline.HMainK (Ix := Unit) (Name := ℕ) (U := Pipeline.UD sig nD τ) (Lvl := ℕ) cfgs 0 defs₀ 𝒱₀ m (main (F := Bits)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The buffers at the end, as the lines after the region leave them. -/
def ends (c : Dev nD) (b : Ref sig .tc) : Buf (Elt Bits) ((c : Thread nD τ).loc b) :=
  StableHlo.after (List.flatten [hostOps1]) (Pipeline.withArrays spec0 c (Pipeline.withR (V0 m c) R0 c (G m hp c)) fun w => (dats m hp 0 c).arrAt w cfg0.N) (Proc.devRef .tc b)

set_option backward.isDefEq.respectTransparency.types false in
theorem run_main : θ_run defs (onTc (τ := τ) (main (F := Bits))) (s₀ m ρ) (fun r =>
    (∀ c : Dev nD, (∀ w, r.2.mem ((spec0 w).arr.view.loc (c.tc : Thread nD τ)) = (dats m hp 0 c).arrAt w cfg0.N)
      ∧ ∀ b ∈ Pipeline.restRefs sig spec0, r.2.mem ((c.tc : Thread nD τ).loc b) = ends m hp c b) ∧ r.2.sem = fun _ => 0) :=
  Pipeline.θ_run_frame_dmaR_aroundV cfgs (dats m hp) (0 : Fin 1) launch0 osem0 defs₀ Variants.none ownSemFacts0 H0 R0 H0_sub R0_sub m ρ main
    (hbody := fun c => (body_obligation m hp c).loose) (hshare := fun c => (dats m hp 0 c).share_full fun _ => rfl)
    (howed := fun _ _ => rfl) (V₀ := V0 m) (opss := [hostOps1]) (hsub := sfx_sub) (hfresh := sfx_fresh) (hkeep := sfx_keeps) (G := G m hp)
    (hmain := hmain' m Variants.none) (hA := A_eq m hp)
    (hin := fun _ => .rfl) (hout := fun _ => .rfl)
    (Q' := _) (hQ' := fun r h => ⟨fun c => h.1 c, h.2⟩)

end Cert.Proof.K

end
-- ==== Proof.Ends.lean ====
/- What the kernel's buffers hold at the end: its arguments as launched, its two results the value the region
   leaves, transposed; and the pools and the scales that the region finds, read through the host's transposes. -/
module

public import proofs.«01_k».proof.Proof.Launch
public import Idealize.ShloMosaic.Lib.StableHlo.ReadAt

@[expose] public section

set_option maxRecDepth 16384

noncomputable section

namespace Cert.Proof.K

open Cert.Kernel Cert.Kernel.Gen
open Idealize.ShloMosaic Idealize.ShloMosaic.TcCoe Idealize.ShloMosaic.Tactic
open Idealize.SL.Sem
open Idealize.ShloMosaic.ValueIdx
open Idealize.ShloMosaic.Pipeline (Dat Cfg Window)

variable (m : (ℓ : Loc nD τ sig) → Buf (Elt Bits) ℓ) (ρ : Dev nD → PrngReg)
variable (hp : ∀ (c : Dev nD) (i : S8x128.Idx), BitVec.toNat (w := 32) (m ((c : Thread nD τ).loc main_arg4) i) < 1280)

/-- No line after the region writes `b`: it ends as the region leaves it. -/
theorem ends_keep (c : Dev nD) (b : Ref sig .tc) (h7 : b ≠ main_v7) (h8 : b ≠ main_v8) (hw : ∀ w, Pipeline.arrRef spec0 w ≠ b)
    (hR : b ∉ R0) : ends m hp c b = V m c b := by
  unfold ends
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, Finset.mem_singleton]
      exact ⟨StableHlo.devRef_ne_of_ne h7, StableHlo.devRef_ne_of_ne h8⟩))]
  rw [Pipeline.withArrays_of_ne _ _ _ _ _ hw, Pipeline.withR_of_not_mem _ _ _ _ _ hR]

theorem ends_arg0 (c : Dev nD) : ends m hp c main_arg0 = m ((c : Thread nD τ).loc main_arg0) :=
  (ends_keep m hp c main_arg0 (by decide) (by decide) (by exact (by decide : ∀ w, Pipeline.arrRef spec0 w ≠ main_arg0)) (by decide)).trans (V_main_arg0 m c)
theorem ends_arg1 (c : Dev nD) : ends m hp c main_arg1 = m ((c : Thread nD τ).loc main_arg1) :=
  (ends_keep m hp c main_arg1 (by decide) (by decide) (by exact (by decide : ∀ w, Pipeline.arrRef spec0 w ≠ main_arg1)) (by decide)).trans (V_main_arg1 m c)
theorem ends_arg2 (c : Dev nD) : ends m hp c main_arg2 = m ((c : Thread nD τ).loc main_arg2) :=
  (ends_keep m hp c main_arg2 (by decide) (by decide) (by exact (by decide : ∀ w, Pipeline.arrRef spec0 w ≠ main_arg2)) (by decide)).trans (V_main_arg2 m c)
theorem ends_arg3 (c : Dev nD) : ends m hp c main_arg3 = m ((c : Thread nD τ).loc main_arg3) :=
  (ends_keep m hp c main_arg3 (by decide) (by decide) (by exact (by decide : ∀ w, Pipeline.arrRef spec0 w ≠ main_arg3)) (by decide)).trans (V_main_arg3 m c)

/-- What the region leaves in its two results. -/
theorem left_0 (c : Dev nD) : Pipeline.withArrays spec0 c (Pipeline.withR (V0 m c) R0 c (G m hp c)) (fun w => (dats m hp 0 c).arrAt w cfg0.N) (Proc.devRef .tc main_v6_0) = (dat m hp c).TO 0 := by
  rw [Pipeline.withArrays_of_ne _ _ _ _ _ (by exact (by decide : ∀ w, Pipeline.arrRef spec0 w ≠ main_v6_0)),
    Pipeline.withR_of_mem _ _ _ _ _ (by decide), G_0]
theorem left_1 (c : Dev nD) : Pipeline.withArrays spec0 c (Pipeline.withR (V0 m c) R0 c (G m hp c)) (fun w => (dats m hp 0 c).arrAt w cfg0.N) (Proc.devRef .tc main_v6_1) = (dat m hp c).TO 1 := by
  rw [Pipeline.withArrays_of_ne _ _ _ _ _ (by exact (by decide : ∀ w, Pipeline.arrRef spec0 w ≠ main_v6_1)),
    Pipeline.withR_of_mem _ _ _ _ _ (by decide), G_1]

/-- The result with axes `(batch, position, head, lane)`. -/
def out (D : Data) (kv : Fin 2) : S8x2048x108x128.Idx → Elt Bits .bf16 :=
  transpose S8x2048x108x128 [0, 2, 1, 3] (D.TO kv) transposes_S8x108x2048x128_S8x2048x108x128_0_2_1_3

theorem ends_v7 (c : Dev nD) : ends m hp c main_v7 = out (dat m hp c) 0 := by
  unfold ends out
  rw [← left_0]
  generalize Pipeline.withArrays spec0 c (Pipeline.withR (V0 m c) R0 c (G m hp c)) (fun w => (dats m hp 0 c).arrAt w cfg0.N) = U
  after_reads_simp
theorem ends_v8 (c : Dev nD) : ends m hp c main_v8 = out (dat m hp c) 1 := by
  unfold ends out
  rw [← left_1]
  generalize Pipeline.withArrays spec0 c (Pipeline.withR (V0 m c) R0 c (G m hp c)) (fun w => (dats m hp 0 c).arrAt w cfg0.N) = U
  after_reads_simp

theorem out_at (D : Data) (kv : Fin 2) (b : Fin 8) (s : Fin 2048) (h : Fin 108) (d : Fin 128) :
    out D kv (ValueIdx.ix4 b s h d) = D.res kv b.val h s.val d := by
  unfold out
  rw [transpose_apply _ _ _ _ (ValueIdx.ix4 b h s d) (by intro a; fin_cases a <;> rfl)]
  rfl

theorem V_v1 (c : Dev nD) : V m c main_v1 = shapeCast S1280x1728x128 (transpose S1280x108x16x128 [0, 2, 1, 3] (m ((c : Thread nD τ).loc main_arg0)) transposes_S1280x16x108x128_S1280x108x16x128_0_2_1_3) shapeCasts_S1280x108x16x128_S1280x1728x128 := by
  unfold V V0
  after_reads_simp
  rfl
theorem V_v3 (c : Dev nD) : V m c main_v3 = shapeCast S1280x1728x128 (transpose S1280x108x16x128 [0, 2, 1, 3] (m ((c : Thread nD τ).loc main_arg1)) transposes_S1280x16x108x128_S1280x108x16x128_0_2_1_3) shapeCasts_S1280x108x16x128_S1280x1728x128 := by
  unfold V V0
  after_reads_simp
  rfl
theorem V_v4 (c : Dev nD) : V m c main_v4 = transpose S108x16x1280 [2, 1, 0] (m ((c : Thread nD τ).loc main_arg2)) transposes_S1280x16x108_S108x16x1280_2_1_0 := by
  unfold V V0
  after_reads_simp
  try rfl
theorem V_v5 (c : Dev nD) : V m c main_v5 = transpose S108x16x1280 [2, 1, 0] (m ((c : Thread nD τ).loc main_arg3)) transposes_S1280x16x108_S108x16x1280_2_1_0 := by
  unfold V V0
  after_reads_simp
  try rfl

/-- A pool with the heads before the rows of a page, read at head `h` and row `r` of page `p`. -/
theorem pool_at {α : Type} (x : S1280x16x108x128.Idx → α) (p : Fin 1280) (h : Fin 108) (r : Fin 16) (d : Fin 128) (j : Fin 1728)
    (hj : j.val = h.val * 16 + r.val) :
    shapeCast S1280x1728x128 (transpose S1280x108x16x128 [0, 2, 1, 3] x transposes_S1280x16x108x128_S1280x108x16x128_0_2_1_3) shapeCasts_S1280x108x16x128_S1280x1728x128 (ValueIdx.ix3 p j d)
      = x (ValueIdx.ix4 p r h d) := by
  rw [shapeCast_apply _ _ _ (ValueIdx.ix4 p h r d) (by
    rw [Shape.rowMajor_val_four, Shape.rowMajor_val_three]
    show ((p.val * 108 + h.val) * 16 + r.val) * 128 + d.val = (p.val * 1728 + j.val) * 128 + d.val
    omega)]
  exact transpose_apply _ _ _ _ _ (by intro a; fin_cases a <;> rfl)

/-- A scale array with the pages last. -/
theorem scale_at {α : Type} (x : S1280x16x108.Idx → α) (p : Fin 1280) (h : Fin 108) (r : Fin 16) :
    transpose S108x16x1280 [2, 1, 0] x transposes_S1280x16x108_S108x16x1280_2_1_0 (ValueIdx.ix3 h r p) = x (ValueIdx.ix3 p r h) :=
  transpose_apply _ _ _ _ _ (by intro a; fin_cases a <;> rfl)

end Cert.Proof.K

end
-- ==== Proof.RefRead.lean ====
/- The reference's host lines, read at an index: the page a table entry names, the rows the gathers take, the
   reshapes and the broadcasts; and the reference kernel's two results at an index. -/
module

public import proofs.«01_k».proof.Proof.Words
public import proofs.«01_k».proof.Proof.Pay
public import proofs.«01_k».proof.Proof.Gen.Reference.Frame
public import Idealize.ShloMosaic.Lib.StableHlo.ReadAt
public import Idealize.ShloMosaic.Lib.Affine
public import Idealize.ShloMosaic.Lib.ValueIdxCore
public import Idealize.ShloMosaic.Lib.Pipeline.ValueKit.Basic
public import Idealize.ShloMosaic.Lib.Pipeline.ValueKit.Geometry

@[expose] public section

set_option maxRecDepth 16384

noncomputable section

namespace Cert.Proof.R

open Cert.Reference Cert.Reference.Gen
open Idealize.ShloMosaic Idealize.ShloMosaic.TcCoe Idealize.ShloMosaic.Tactic
open Idealize.SL.Sem
open Idealize.ShloMosaic.Pipeline (Dat Cfg Window)
open Cert.Proof.K (val rnd clipLen clip_spec)

/-- The table's entries with the wrap-round of negative ones, as a start index of the gathers. -/
def starts (pt : S8x128.Idx → BitVec 32) : S8x128x1.Idx → BitVec 32 :=
  broadcastInDim S8x128x1 ![0, 1] bcast_S8x128_S8x128x1_0_1
    (select (cmpi .slt pt (broadcastInDim S8x128 ![] bcast_S_S8x128 (constantI S_ 32 0#32)))
      (addi pt (broadcastInDim S8x128 ![] bcast_S_S8x128 (constantI S_ 32 1280#32))) pt)

theorem starts_at (pt : S8x128.Idx → BitVec 32) (hpt : ∀ i, (pt i).toNat < 1280) (b : Fin 8) (s : Fin 128) (z : Fin 1) :
    starts pt (ValueIdx.ix3 b s z) = pt (ValueIdx.ix2 b s) := by
  unfold starts
  rw [broadcastInDim_apply _ _ _ _ (ValueIdx.ix2 b s) (by intro a; fin_cases a <;> rfl)]
  show Scalar.select (IntOp.cmpi .slt (pt (ValueIdx.ix2 b s)) 0#32) _ _ = _
  unfold Scalar.select
  refine if_neg fun h => ?_
  have h1 := IntOp.cmpi_slt.1 h
  have h2 := hpt (ValueIdx.ix2 b s)
  rw [BitVec.toInt_eq_toNat_of_lt (by omega)] at h1
  simp at h1
  omega

/-- A page's rows, gathered: the codes. -/
theorem gather4_at {α : Type} (x : S1280x16x108x128.Idx → α) (idx : S8x128x1.Idx → BitVec 32) (b : Fin 8) (s : Fin 128) (r : Fin 16) (h : Fin 108) (d : Fin 128)
    (p : Fin 1280) (hp : (idx (ValueIdx.ix3 b s 0)).toNat = p.val) :
    Host.gather gather_S1280x16x108x128_S8x128x1_S8x128x16x108x128_234_0_n_n_0_2_116108128 x idx (ValueIdx.ix5 b s r h d) = x (ValueIdx.ix4 p r h d) := by
  unfold Host.gather
  congr 1
  funext a
  refine Fin.ext ?_
  show GatherDims.start _ _ idx a + GatherDims.batchCoord _ _ a + GatherDims.offCoord _ _ a = _
  rw [GatherDims.batchCoord_eq_zero _ _ _ (fun h => by simp [gather_S1280x16x108x128_S8x128x1_S8x128x16x108x128_234_0_n_n_0_2_116108128] at h)]
  have ha : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases ha with rfl | rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 4) ∈ gather_S1280x16x108x128_S8x128x1_S8x128x16x108x128_234_0_n_n_0_2_116108128.startIndexMap from List.mem_singleton.mpr rfl)]
    refine (congrArg (fun v : BitVec 32 => min v.toInt.toNat 1279) (congrArg idx (a₂ := ValueIdx.ix3 b s 0) ?_)).trans ?_
    · funext k; refine Fin.ext ?_
      match k with
      | ⟨0, _⟩ => rfl
      | ⟨1, _⟩ => rfl
      | ⟨2, _⟩ => rfl
    · have h2 := p.isLt
      show min (idx (ValueIdx.ix3 b s 0)).toInt.toNat 1279 = p.val
      rw [BitVec.toInt_eq_toNat_of_lt (by omega)]
      omega
  all_goals
    unfold GatherDims.start
    rw [dif_neg (by simp [gather_S1280x16x108x128_S8x128x1_S8x128x16x108x128_234_0_n_n_0_2_116108128])]
    simp only [Nat.zero_add, Nat.add_zero]
    rfl

/-- A page's rows, gathered: the scales. -/
theorem gather3_at {α : Type} (x : S1280x16x108.Idx → α) (idx : S8x128x1.Idx → BitVec 32) (b : Fin 8) (s : Fin 128) (r : Fin 16) (h : Fin 108)
    (p : Fin 1280) (hp : (idx (ValueIdx.ix3 b s 0)).toNat = p.val) :
    Host.gather gather_S1280x16x108_S8x128x1_S8x128x16x108_23_0_n_n_0_2_116108 x idx (ValueIdx.ix4 b s r h) = x (ValueIdx.ix3 p r h) := by
  unfold Host.gather
  congr 1
  funext a
  refine Fin.ext ?_
  show GatherDims.start _ _ idx a + GatherDims.batchCoord _ _ a + GatherDims.offCoord _ _ a = _
  rw [GatherDims.batchCoord_eq_zero _ _ _ (fun h => by simp [gather_S1280x16x108_S8x128x1_S8x128x16x108_23_0_n_n_0_2_116108] at h)]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S1280x16x108_S8x128x1_S8x128x16x108_23_0_n_n_0_2_116108.startIndexMap from List.mem_singleton.mpr rfl)]
    refine (congrArg (fun v : BitVec 32 => min v.toInt.toNat 1279) (congrArg idx (a₂ := ValueIdx.ix3 b s 0) ?_)).trans ?_
    · funext k; refine Fin.ext ?_
      match k with
      | ⟨0, _⟩ => rfl
      | ⟨1, _⟩ => rfl
      | ⟨2, _⟩ => rfl
    · have h2 := p.isLt
      show min (idx (ValueIdx.ix3 b s 0)).toInt.toNat 1279 = p.val
      rw [BitVec.toInt_eq_toNat_of_lt (by omega)]
      omega
  all_goals
    unfold GatherDims.start
    rw [dif_neg (by simp [gather_S1280x16x108_S8x128x1_S8x128x16x108_23_0_n_n_0_2_116108])]
    simp only [Nat.zero_add, Nat.add_zero]
    rfl

/-- The gathered codes with the pages laid end to end. -/
def codes {α : Type} (x : S1280x16x108x128.Idx → α) (pt : S8x128.Idx → BitVec 32) : S8x2048x108x128.Idx → α :=
  shapeCast S8x2048x108x128 (Host.gather gather_S1280x16x108x128_S8x128x1_S8x128x16x108x128_234_0_n_n_0_2_116108128 x (starts pt)) shapeCasts_S8x128x16x108x128_S8x2048x108x128
/-- The gathered scales with the pages laid end to end. -/
def scales {α : Type} (x : S1280x16x108.Idx → α) (pt : S8x128.Idx → BitVec 32) : S8x2048x108x1.Idx → α :=
  broadcastInDim S8x2048x108x1 ![0, 1, 2] bcast_S8x2048x108_S8x2048x108x1_0_1_2
    (shapeCast S8x2048x108 (Host.gather gather_S1280x16x108_S8x128x1_S8x128x16x108_23_0_n_n_0_2_116108 x (starts pt)) shapeCasts_S8x128x16x108_S8x2048x108)
/-- The lengths, one per batch row. -/
def lens (len : S8.Idx → BitVec 32) : S8x1x1x1.Idx → BitVec 32 := broadcastInDim S8x1x1x1 ![0] bcast_S8_S8x1x1x1_0 len

theorem codes_at {α : Type} (x : S1280x16x108x128.Idx → α) (pt : S8x128.Idx → BitVec 32) (hpt : ∀ i, (pt i).toNat < 1280)
    (b : Fin 8) (s : Fin 2048) (h : Fin 108) (d : Fin 128) (q : Fin 128) (r : Fin 16) (hs : s.val = q.val * 16 + r.val) :
    codes x pt (ValueIdx.ix4 b s h d) = x (ValueIdx.ix4 (⟨(pt (ValueIdx.ix2 b q)).toNat, hpt _⟩ : Fin 1280) r h d) := by
  unfold codes
  rw [shapeCast_apply _ _ _ (ValueIdx.ix5 b q r h d) (by
    rw [Shape.rowMajor_val_five, Shape.rowMajor_val_four]
    show (((b.val * 128 + q.val) * 16 + r.val) * 108 + h.val) * 128 + d.val = ((b.val * 2048 + s.val) * 108 + h.val) * 128 + d.val
    omega)]
  exact gather4_at x _ b q r h d _ (by rw [starts_at pt hpt])

theorem scales_at {α : Type} (x : S1280x16x108.Idx → α) (pt : S8x128.Idx → BitVec 32) (hpt : ∀ i, (pt i).toNat < 1280)
    (b : Fin 8) (s : Fin 2048) (h : Fin 108) (z : Fin 1) (q : Fin 128) (r : Fin 16) (hs : s.val = q.val * 16 + r.val) :
    scales x pt (ValueIdx.ix4 b s h z) = x (ValueIdx.ix3 (⟨(pt (ValueIdx.ix2 b q)).toNat, hpt _⟩ : Fin 1280) r h) := by
  unfold scales
  rw [broadcastInDim_apply _ _ _ _ (ValueIdx.ix3 b s h) (by intro a; fin_cases a <;> rfl)]
  rw [shapeCast_apply _ _ _ (ValueIdx.ix4 b q r h) (by
    rw [Shape.rowMajor_val_four, Shape.rowMajor_val_three]
    show ((b.val * 128 + q.val) * 16 + r.val) * 108 + h.val = (b.val * 2048 + s.val) * 108 + h.val
    omega)]
  exact gather3_at x _ b q r h _ (by rw [starts_at pt hpt])

theorem lens_at (len : S8.Idx → BitVec 32) (b : Fin 8) (y z w : Fin 1) : lens len (ValueIdx.ix4 b y z w) = len (ValueIdx.ix1 b) := by
  unfold lens
  exact broadcastInDim_apply _ _ _ _ (ValueIdx.ix1 b) (by intro a; fin_cases a; rfl)

/-- Below the signed length is below the length clipped to the result's extent. -/
theorem lt_clip (len : BitVec 32) (s : ℕ) (hs : s < 2048) : (BitVec.ofNat 32 s).toInt < len.toInt ↔ s < clipLen len := by
  rw [clip_spec, BitVec.toInt_eq_toNat_of_lt (by rw [BitVec.toNat_ofNat]; omega), BitVec.toNat_ofNat, Nat.mod_eq_of_lt (by omega)]
  omega

/-- The reference kernel's arithmetic at an index. -/
theorem pay2_at (x4 : S8x1x1x1.Idx → BitVec 32) (x0 : S8x2048x108x128.Idx → Elt Bits .fp8e4m3) (x2 : S8x2048x108x1.Idx → Elt Bits .f32)
    (b : Fin 8) (s : Fin 2048) (h : Fin 108) (d : Fin 128) :
    k0_pay2 (F := Bits) x4 x0 x2 (ValueIdx.ix4 b s h d)
      = if s.val < clipLen (x4 (ValueIdx.ix4 b 0 0 0)) then val (x0 (ValueIdx.ix4 b s h d)) (rnd (x2 (ValueIdx.ix4 b s h 0))) else (0 : BitVec 16) := by
  have e1 : iota .tc S8x2048x108x128 32 [1] iota_S8x2048x108x128_d1_w32 (ValueIdx.ix4 b s h d) = BitVec.ofNat 32 s.val := by
    show BitVec.ofNat 32 (0 * 2048 + s.val) = _
    rw [Nat.zero_mul, Nat.zero_add]
  have e2 : broadcastTo S8x2048x108x128 (shapeCast S8x1x1x1 x4 shapeCasts_S8x1x1x1_S8x1x1x1) broadcasts_S8x1x1x1_S8x2048x108x128 (ValueIdx.ix4 b s h d) = x4 (ValueIdx.ix4 b 0 0 0) := by
    rw [broadcastTo_apply _ _ _ (ValueIdx.ix4 b 0 0 0) (by intro a; fin_cases a <;> rfl)]
    exact shapeCast_apply _ _ _ _ rfl
  have e3 : shapeCast S8x2048x108x128 x0 shapeCasts_S8x2048x108x128_S8x2048x108x128 (ValueIdx.ix4 b s h d) = x0 (ValueIdx.ix4 b s h d) := shapeCast_apply _ _ _ _ rfl
  have e4 : broadcastTo S8x2048x108x128 (truncf (F := Bits) .bf16 (shapeCast S8x2048x108x1 x2 shapeCasts_S8x2048x108x1_S8x2048x108x1) bitsLt_bf16_f32) broadcasts_S8x2048x108x1_S8x2048x108x128 (ValueIdx.ix4 b s h d) = rnd (x2 (ValueIdx.ix4 b s h 0)) := by
    rw [broadcastTo_apply _ _ _ (ValueIdx.ix4 b s h 0) (by intro a; fin_cases a <;> rfl)]
    exact congrArg rnd (shapeCast_apply _ _ _ _ rfl)
  show Scalar.select (IntOp.cmpi .slt (iota .tc S8x2048x108x128 32 [1] iota_S8x2048x108x128_d1_w32 (ValueIdx.ix4 b s h d))
      (broadcastTo S8x2048x108x128 (shapeCast S8x1x1x1 x4 shapeCasts_S8x1x1x1_S8x1x1x1) broadcasts_S8x1x1x1_S8x2048x108x128 (ValueIdx.ix4 b s h d)))
    (val (shapeCast S8x2048x108x128 x0 shapeCasts_S8x2048x108x128_S8x2048x108x128 (ValueIdx.ix4 b s h d))
      (broadcastTo S8x2048x108x128 (truncf (F := Bits) .bf16 (shapeCast S8x2048x108x1 x2 shapeCasts_S8x2048x108x1_S8x2048x108x1) bitsLt_bf16_f32) broadcasts_S8x2048x108x1_S8x2048x108x128 (ValueIdx.ix4 b s h d)))
    (Scalar.ofBits (F := Bits) .bf16 0x0000#16) = _
  rw [e1, e2, e3, e4]
  unfold Scalar.select
  by_cases hc : s.val < clipLen (x4 (ValueIdx.ix4 b 0 0 0))
  · rw [if_pos hc]; exact if_pos (IntOp.cmpi_slt.2 ((lt_clip _ _ s.isLt).2 hc))
  · rw [if_neg hc]; exact if_neg fun h => hc ((lt_clip _ _ s.isLt).1 (IntOp.cmpi_slt.1 h))

/-- The second result's arithmetic is the first's. -/
theorem pay1_eq (x4 : S8x1x1x1.Idx → BitVec 32) (x0 : S8x2048x108x128.Idx → Elt Bits .fp8e4m3) (x2 : S8x2048x108x1.Idx → Elt Bits .f32) :
    k0_pay1 (F := Bits) (k0_pay3 (F := Bits) x4) (k0_pay4 (F := Bits) x0 x2) (Scalar.ofBits .bf16 0x0000#16) = k0_pay2 (F := Bits) x4 x0 x2 := rfl

end Cert.Proof.R

end
-- ==== Proof.RefVal.lean ====
/- The reference's run: what its two results hold at the end. -/
module

public import proofs.«01_k».proof.Proof.RefRead

@[expose] public section

set_option maxRecDepth 16384

noncomputable section

namespace Cert.Proof.R

open Cert.Reference Cert.Reference.Gen
open Idealize.ShloMosaic Idealize.ShloMosaic.TcCoe Idealize.ShloMosaic.Tactic
open Idealize.SL.Sem
open Idealize.ShloMosaic.Pipeline (Dat Cfg Window)
open Cert.Proof.K (val rnd clipLen clip_spec)

variable (m : (ℓ : Loc nD τ sig) → Buf (Elt Bits) ℓ) (ρ : Dev nD → PrngReg)

theorem V_v7 (c : Dev nD) : V m c main_v7 = codes (m ((c : Thread nD τ).loc main_arg0)) (m ((c : Thread nD τ).loc main_arg4)) := by
  unfold V
  after_reads_simp
  rfl
theorem V_v15 (c : Dev nD) : V m c main_v15 = codes (m ((c : Thread nD τ).loc main_arg1)) (m ((c : Thread nD τ).loc main_arg4)) := by
  unfold V
  after_reads_simp
  rfl
theorem V_v24 (c : Dev nD) : V m c main_v24 = scales (m ((c : Thread nD τ).loc main_arg2)) (m ((c : Thread nD τ).loc main_arg4)) := by
  unfold V
  after_reads_simp
  rfl
theorem V_v33 (c : Dev nD) : V m c main_v33 = scales (m ((c : Thread nD τ).loc main_arg3)) (m ((c : Thread nD τ).loc main_arg4)) := by
  unfold V
  after_reads_simp
  rfl
theorem V_v34 (c : Dev nD) : V m c main_v34 = lens (m ((c : Thread nD τ).loc main_arg5)) := by
  unfold V
  after_reads_simp
  rfl

/-- A whole array's one block is the array. -/
theorem blk_0 (c : Dev nD) (t : Fin cfg0.N) : iblk m c 0 t = V m c main_v7 := by
  rw [fin_N0 t]; funext i; unfold iblk
  exact congrArg (V m c main_v7) (funext fun a => Fin.ext (by fin_cases a <;> exact (Nat.zero_add _).trans (Nat.one_mul _)))
theorem blk_1 (c : Dev nD) (t : Fin cfg0.N) : iblk m c 1 t = V m c main_v15 := by
  rw [fin_N0 t]; funext i; unfold iblk
  exact congrArg (V m c main_v15) (funext fun a => Fin.ext (by fin_cases a <;> exact (Nat.zero_add _).trans (Nat.one_mul _)))
theorem blk_2 (c : Dev nD) (t : Fin cfg0.N) : iblk m c 2 t = V m c main_v24 := by
  rw [fin_N0 t]; funext i; unfold iblk
  exact congrArg (V m c main_v24) (funext fun a => Fin.ext (by fin_cases a <;> exact (Nat.zero_add _).trans (Nat.one_mul _)))
theorem blk_3 (c : Dev nD) (t : Fin cfg0.N) : iblk m c 3 t = V m c main_v33 := by
  rw [fin_N0 t]; funext i; unfold iblk
  exact congrArg (V m c main_v33) (funext fun a => Fin.ext (by fin_cases a <;> exact (Nat.zero_add _).trans (Nat.one_mul _)))
theorem blk_4 (c : Dev nD) (t : Fin cfg0.N) : iblk m c 4 t = V m c main_v34 := by
  rw [fin_N0 t]; funext i; unfold iblk
  exact congrArg (V m c main_v34) (funext fun a => Fin.ext (by fin_cases a <;> exact (Nat.zero_add _).trans (Nat.one_mul _)))

/-- The body's one store leaves its payload. -/
theorem out5_eq (x0 x1 : Vec Bits S8x2048x108x128 .fp8e4m3) (x2 x3 : Vec Bits S8x2048x108x1 .f32) (x4 : Vec Bits S8x1x1x1 .i32) :
    out0_5 x0 x1 x2 x3 x4 = k0_pay2 (F := Bits) x4 x0 x2 := by
  unfold out0_5
  rw [View.canon_cons_unit_lit _ _ _ (by decide), View.ld_unit_lit _ x4 (by decide), View.ld_unit_lit _ x0 (by decide), View.ld_unit_lit _ x2 (by decide)]
theorem out6_eq (x0 x1 : Vec Bits S8x2048x108x128 .fp8e4m3) (x2 x3 : Vec Bits S8x2048x108x1 .f32) (x4 : Vec Bits S8x1x1x1 .i32) :
    out0_6 x0 x1 x2 x3 x4 = k0_pay2 (F := Bits) x4 x1 x3 := by
  unfold out0_6
  rw [View.canon_cons_unit_lit _ _ _ (by decide), View.ld_unit_lit _ x4 (by decide), View.ld_unit_lit _ x1 (by decide), View.ld_unit_lit _ x3 (by decide), pay1_eq]

/-- A whole result ends as what the body leaves at the one point. -/
theorem arr_of_5 {c : Dev nD} (dat : Dat τ (Elt Bits) Unit ℕ (UR sig nD τ) ℕ cfg0 c) (G : S8x2048x108x128.Idx → Elt Bits .bf16)
    (h : dat.after 5 t0_0 = G) : dat.arrAt 5 cfg0.N = G := by
  subst h
  exact dat.arrAt_eq_of_after_last 5 t0_0 (by decide +kernel) _ (fun j => rfl)
theorem arr_of_6 {c : Dev nD} (dat : Dat τ (Elt Bits) Unit ℕ (UR sig nD τ) ℕ cfg0 c) (G : S8x2048x108x128.Idx → Elt Bits .bf16)
    (h : dat.after 6 t0_0 = G) : dat.arrAt 6 cfg0.N = G := by
  subst h
  exact dat.arrAt_eq_of_after_last 6 t0_0 (by decide +kernel) _ (fun j => rfl)

/-- The arrays the two results end as. -/
theorem arr_5 (c : Dev nD) : (dats m 0 c).arrAt 5 cfg0.N = k0_pay2 (F := Bits) (V m c main_v34) (V m c main_v7) (V m c main_v24) :=
  arr_of_5 _ _ (by rw [after0_5, out5_eq, blk_0, blk_2, blk_4])
theorem arr_6 (c : Dev nD) : (dats m 0 c).arrAt 6 cfg0.N = k0_pay2 (F := Bits) (V m c main_v34) (V m c main_v15) (V m c main_v33) :=
  arr_of_6 _ _ (by rw [after0_6, out6_eq, blk_1, blk_3, blk_4])

/-- A result of the reference, as the formula over the arguments. -/
def out (x : S1280x16x108x128.Idx → Elt Bits .fp8e4m3) (sc : S1280x16x108.Idx → Elt Bits .f32) (pt : S8x128.Idx → BitVec 32) (len : S8.Idx → BitVec 32) :
    S8x2048x108x128.Idx → Elt Bits .bf16 :=
  k0_pay2 (F := Bits) (lens len) (codes x pt) (scales sc pt)

/-- `out` at an index: the dequantised code where the place is below the row's length, else zero. -/
theorem out_at (x : S1280x16x108x128.Idx → Elt Bits .fp8e4m3) (sc : S1280x16x108.Idx → Elt Bits .f32) (pt : S8x128.Idx → BitVec 32) (len : S8.Idx → BitVec 32)
    (hpt : ∀ i, (pt i).toNat < 1280) (b : Fin 8) (s : Fin 2048) (h : Fin 108) (d : Fin 128) (q : Fin 128) (r : Fin 16) (hs : s.val = q.val * 16 + r.val) :
    out x sc pt len (ValueIdx.ix4 b s h d)
      = if s.val < clipLen (len (ValueIdx.ix1 b)) then
          val (x (ValueIdx.ix4 (⟨(pt (ValueIdx.ix2 b q)).toNat, hpt _⟩ : Fin 1280) r h d)) (rnd (sc (ValueIdx.ix3 (⟨(pt (ValueIdx.ix2 b q)).toNat, hpt _⟩ : Fin 1280) r h)))
        else (0 : BitVec 16) := by
  unfold out
  rw [pay2_at, lens_at, codes_at x pt hpt b s h d q r hs, scales_at sc pt hpt b s h 0 q r hs]

/-- The reference's run. -/
theorem run : θ_run defs (onTc (τ := τ) (main (F := Bits))) ⟨m, fun _ => 0, ρ⟩ (fun r => ∀ c : Dev nD,
    r.2.mem ((c.tc : Thread nD τ).loc main_v35_0) = out (m ((c : Thread nD τ).loc main_arg0)) (m ((c : Thread nD τ).loc main_arg2)) (m ((c : Thread nD τ).loc main_arg4)) (m ((c : Thread nD τ).loc main_arg5))
    ∧ r.2.mem ((c.tc : Thread nD τ).loc main_v35_1) = out (m ((c : Thread nD τ).loc main_arg1)) (m ((c : Thread nD τ).loc main_arg3)) (m ((c : Thread nD τ).loc main_arg4)) (m ((c : Thread nD τ).loc main_arg5))) :=
  (θ_run defs _ _).mono (fun r h c =>
    ⟨((h c).1 5).trans ((arr_5 m c).trans (by rw [V_v7, V_v24, V_v34]; rfl)),
     ((h c).1 6).trans ((arr_6 m c).trans (by rw [V_v15, V_v33, V_v34]; rfl))⟩) (run_main m ρ)

end Cert.Proof.R

end
-- ==== Proof.lean ====
/- The claims: the kernel and the reference run and leave their arguments, and the two results of the one are the
   two results of the other, bit for bit, when every page table entry names a page. -/
module

public import proofs.«01_k».proof.Defs
public import proofs.«01_k».proof.Proof.Ends
public import proofs.«01_k».proof.Proof.RefVal
public import proofs.«01_k».proof.Proof.Gen.Kernel
public import proofs.«01_k».proof.Proof.Gen.Reference
public import proofs.«01_k».proof.Proof.Gen.Pre_pre
public import Idealize.ShloMosaic.Lib.ReduceAll

@[expose] public section

set_option maxRecDepth 16384

noncomputable section

namespace Cert.Proof

open Idealize.ShloMosaic Idealize.ShloMosaic.TcCoe
open Idealize.SL.Sem

/-- The precondition, read: every page table entry, as a natural number, is below the number of pages. -/
theorem pages_lt {x0 x1 : FVec Bits Pre_pre.S1280x16x108x128 .fp8e4m3} {x2 x3 : FVec Bits Pre_pre.S1280x16x108 .f32} {pt : IVec Pre_pre.S8x128 32} {len : IVec Pre_pre.S8 32}
    [Pre_pre.Facts] (h : Pre_pre.fn (F := Bits) x0 x1 x2 x3 pt len = fun _ => 1#1) (i : Pre_pre.S8x128.Idx) : (pt i).toNat < 1280 := by
  have h0 := congrFun h ix0
  dsimp only [Pre_pre.fn] at h0
  have h1 := Host.reduce_andi_all _ _ _ _ ix0 h0 i
  have h2 : IntOp.andi (IntOp.cmpi .sge (pt i) 0#32) (IntOp.cmpi .slt (pt i) 1280#32) = 1#1 := h1
  have h3 := IntOp.andi_eq_one.1 h2
  have h4 := IntOp.cmpi_sge.1 h3.1
  have h5 := IntOp.cmpi_slt.1 h3.2
  have e0 : (0#32 : BitVec 32).toInt = 0 := rfl
  have e1 : (1280#32 : BitVec 32).toInt = 1280 := rfl
  rw [e0] at h4
  rw [e1] at h5
  rw [BitVec.toInt_eq_toNat_cond] at h4 h5
  split at h4 <;> omega

section Kernel
open Cert.Kernel Cert.Kernel.Gen Cert.Proof.K

variable (m : (ℓ : Loc nD τ sig) → Buf (Elt Bits) ℓ) (ρ : Dev nD → PrngReg)
variable (hp : ∀ (c : Dev nD) (i : S8x128.Idx), BitVec.toNat (w := 32) (m ((c : Thread nD τ).loc main_arg4) i) < 1280)

/-- The kernel's run: its two results, its six arguments and its semaphores at the end. -/
theorem kernel_run : θ_run defs (onTc (τ := τ) (main (F := Bits))) ⟨m, fun _ => 0, ρ⟩ (fun r => (∀ c : Dev nD,
      r.2.mem ((c.tc : Thread nD τ).loc main_v7) = K.out (dat m hp c) 0
      ∧ r.2.mem ((c.tc : Thread nD τ).loc main_v8) = K.out (dat m hp c) 1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨((h.1 c).2 main_v7 (Pipeline.mem_restRefs_of main_v7 (by decide) (by decide))).trans (ends_v7 m hp c),
     ((h.1 c).2 main_v8 (Pipeline.mem_restRefs_of main_v8 (by decide) (by decide))).trans (ends_v8 m hp c),
     ((h.1 c).2 main_arg0 (Pipeline.mem_restRefs_of main_arg0 (by decide) (by decide))).trans (ends_arg0 m hp c),
     ((h.1 c).2 main_arg1 (Pipeline.mem_restRefs_of main_arg1 (by decide) (by decide))).trans (ends_arg1 m hp c),
     ((h.1 c).2 main_arg2 (Pipeline.mem_restRefs_of main_arg2 (by decide) (by decide))).trans (ends_arg2 m hp c),
     ((h.1 c).2 main_arg3 (Pipeline.mem_restRefs_of main_arg3 (by decide) (by decide))).trans (ends_arg3 m hp c),
     ((h.1 c).1 0).trans (((dats m hp 0 c).arrAt_in 0 rfl _).trans ((A_eq m hp c 0).trans (V_main_arg4 m c))),
     ((h.1 c).1 1).trans (((dats m hp 0 c).arrAt_in 1 rfl _).trans ((A_eq m hp c 1).trans (V_main_arg5 m c)))⟩, h.2⟩) (run_main m ρ hp)

/-- The kernel's first result is the reference's formula over the same arguments. -/
theorem out_0 (c : Dev nD) : K.out (dat m hp c) 0 = R.out (m ((c.tc : Thread nD τ).loc main_arg0)) (m ((c.tc : Thread nD τ).loc main_arg2))
    (m ((c.tc : Thread nD τ).loc main_arg4)) (m ((c.tc : Thread nD τ).loc main_arg5)) := by
  funext i
  obtain ⟨b, s, h, d, rfl⟩ : ∃ (b : Fin 8) (s : Fin 2048) (h : Fin 108) (d : Fin 128), i = ValueIdx.ix4 b s h d := ⟨i 0, i 1, i 2, i 3, ValueIdx.eq_ix4 i⟩
  have hs : s.val / 16 < 128 := by have := s.isLt; omega
  rw [K.out_at, R.out_at _ _ _ _ (hp c) b s h d ⟨s.val / 16, hs⟩ ⟨s.val % 16, by omega⟩ (by show s.val = s.val / 16 * 16 + s.val % 16; omega)]
  have eb : (Fin.ofNat 8 b.val) = b := Fin.ext (Nat.mod_eq_of_lt b.isLt)
  have es : (Fin.ofNat 128 (s.val / 16)) = ⟨s.val / 16, hs⟩ := Fin.ext (Nat.mod_eq_of_lt hs)
  have ep : (dat m hp c).pgF b.val (s.val / 16)
      = ⟨BitVec.toNat (w := 32) (m ((c.tc : Thread nD τ).loc main_arg4) (ValueIdx.ix2 b ⟨s.val / 16, hs⟩)), hp c _⟩ := by
    refine Fin.ext ?_
    show BitVec.toNat (w := 32) (m ((c.tc : Thread nD τ).loc main_arg4) (ValueIdx.ix2 (Fin.ofNat 8 b.val) (Fin.ofNat 128 (s.val / 16)))) = _
    rw [eb, es]
  have el : (dat m hp c).ln b.val = m ((c.tc : Thread nD τ).loc main_arg5) (ValueIdx.ix1 b) := by
    show m ((c.tc : Thread nD τ).loc main_arg5) (ValueIdx.ix1 (Fin.ofNat 8 b.val)) = _
    rw [eb]
  have ec : (dat m hp c).P 0 = V m c main_v1 := rfl
  have ed : (dat m hp c).SC 0 = V m c main_v4 := rfl
  unfold Data.res
  rw [ep, el, ec, ed, V_v1, V_v4, pool_at _ _ h ⟨s.val % 16, by omega⟩ d _ rfl, scale_at]

/-- The kernel's second result is the reference's formula over the same arguments. -/
theorem out_1 (c : Dev nD) : K.out (dat m hp c) 1 = R.out (m ((c.tc : Thread nD τ).loc main_arg1)) (m ((c.tc : Thread nD τ).loc main_arg3))
    (m ((c.tc : Thread nD τ).loc main_arg4)) (m ((c.tc : Thread nD τ).loc main_arg5)) := by
  funext i
  obtain ⟨b, s, h, d, rfl⟩ : ∃ (b : Fin 8) (s : Fin 2048) (h : Fin 108) (d : Fin 128), i = ValueIdx.ix4 b s h d := ⟨i 0, i 1, i 2, i 3, ValueIdx.eq_ix4 i⟩
  have hs : s.val / 16 < 128 := by have := s.isLt; omega
  rw [K.out_at, R.out_at _ _ _ _ (hp c) b s h d ⟨s.val / 16, hs⟩ ⟨s.val % 16, by omega⟩ (by show s.val = s.val / 16 * 16 + s.val % 16; omega)]
  have eb : (Fin.ofNat 8 b.val) = b := Fin.ext (Nat.mod_eq_of_lt b.isLt)
  have es : (Fin.ofNat 128 (s.val / 16)) = ⟨s.val / 16, hs⟩ := Fin.ext (Nat.mod_eq_of_lt hs)
  have ep : (dat m hp c).pgF b.val (s.val / 16)
      = ⟨BitVec.toNat (w := 32) (m ((c.tc : Thread nD τ).loc main_arg4) (ValueIdx.ix2 b ⟨s.val / 16, hs⟩)), hp c _⟩ := by
    refine Fin.ext ?_
    show BitVec.toNat (w := 32) (m ((c.tc : Thread nD τ).loc main_arg4) (ValueIdx.ix2 (Fin.ofNat 8 b.val) (Fin.ofNat 128 (s.val / 16)))) = _
    rw [eb, es]
  have el : (dat m hp c).ln b.val = m ((c.tc : Thread nD τ).loc main_arg5) (ValueIdx.ix1 b) := by
    show m ((c.tc : Thread nD τ).loc main_arg5) (ValueIdx.ix1 (Fin.ofNat 8 b.val)) = _
    rw [eb]
  have ec : (dat m hp c).P 1 = V m c main_v3 := rfl
  have ed : (dat m hp c).SC 1 = V m c main_v5 := rfl
  unfold Data.res
  rw [ep, el, ec, ed, V_v3, V_v5, pool_at _ _ h ⟨s.val % 16, by omega⟩ d _ rfl, scale_at]

end Kernel

theorem claim : Cert.Claim :=
  ⟨Cert.Kernel.Gen.facts, Cert.Reference.Gen.facts, Cert.Pre_pre.Gen.facts,
   fun m g hpre => (θ_run _ _ _).mono (fun r h => ⟨fun c => (h.1 c).2.2, h.2⟩) (kernel_run m g fun c i => pages_lt (hpre c) i),
   fun m g _ => Cert.Reference.Gen.frame m g,
   fun m g _ => Cert.Reference.Gen.frame m g,
   fun m g m' g' hpre heq =>
    ⟨fun c => K.out (K.dat m (fun c i => pages_lt (hpre c) i) c) 0, fun c => K.out (K.dat m (fun c i => pages_lt (hpre c) i) c) 1,
     (θ_run _ _ _).mono (fun r h => h.1) (kernel_run m g fun c i => pages_lt (hpre c) i),
     (θ_run _ _ _).mono (fun r h c => by
        obtain ⟨e0, e1, e2, e3, e4, e5⟩ := heq c
        have h1 := h.1 c
        rw [e0, e1, e2, e3, e4, e5] at h1
        exact ⟨h1.1.trans (out_0 m _ c).symm, h1.2.trans (out_1 m _ c).symm, (h.2.1 c)⟩)
      (θ_run_and (R.run m' g') (Cert.Reference.Gen.frame m' g'))⟩⟩

end Cert.Proof

end
